-- ==== Defs.lean ====
def Pre_Kernel [hPre_blocks_in_order : Cert.Pre_blocks_in_order.Facts] (m : (ℓ : Loc Cert.Kernel.nD Cert.Kernel.τ Cert.Kernel.sig) → Buf (Elt Bits) ℓ) : Prop :=
  ∀ c : Dev Cert.Kernel.nD,
    (Cert.Pre_blocks_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_blocks_in_order : Cert.Pre_blocks_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_in_order [hPre_blocks_in_order : Cert.Pre_blocks_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_blocks_in_order : Cert.Pre_blocks_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_blocks_in_order : Cert.Pre_blocks_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_blocks_in_order [hReferenceIdeal : Cert.ReferenceIdeal.Facts] [hPre_blocks_in_order : Cert.Pre_blocks_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_blocks_in_order : Cert.Pre_blocks_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.bf16_pair.BufferStatement Cert.Kernel4Ideal.S65536x2x128 Cert.Kernel4Ideal.S65536x1x128
  ∧ IdealRules.bf16_pair.BufferStatement Cert.Kernel4Ideal.S4096x2x128 Cert.Kernel4Ideal.S4096x1x128
  ∧ IdealRules.bf16_pair.PackStatement Cert.Kernel4Ideal.S256x1024
  ∧ IdealRules.bf16_pair.Statement Cert.Kernel4Ideal.S2048x2x128 Cert.Kernel4Ideal.S2048x1x128

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v13_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_blocks_in_order : Cert.Pre_blocks_in_order.Facts),
    quiescent_Kernel (hKernel := hKernel) (hPre_blocks_in_order := hPre_blocks_in_order)
    ∧ quiescent_KernelIdeal (hKernelIdeal := hKernelIdeal) (hPre_blocks_in_order := hPre_blocks_in_order)
    ∧ quiescent_ReferenceIdeal (hReferenceIdeal := hReferenceIdeal)
    ∧ quiescent_ReferenceIdeal_pre_blocks_in_order (hReferenceIdeal := hReferenceIdeal) (hPre_blocks_in_order := hPre_blocks_in_order)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_blocks_in_order := hPre_blocks_in_order)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_blocks_in_order.lean ====
abbrev S320 : Shape := ⟨1, ![320]⟩
abbrev S81920 : Shape := ⟨1, ![81920]⟩
abbrev S193 : Shape := ⟨1, ![193]⟩
abbrev S65536x128 : Shape := ⟨2, ![65536, 128]⟩
abbrev S8192x128 : Shape := ⟨2, ![8192, 128]⟩
abbrev S64x2048x512 : Shape := ⟨3, ![64, 2048, 512]⟩
abbrev S320x1x1 : Shape := ⟨3, ![320, 1, 1]⟩
abbrev S64 : Shape := ⟨1, ![64]⟩
abbrev S1 : Shape := ⟨1, ![1]⟩
abbrev S_ : Shape := ⟨0, ![]⟩
abbrev S319 : Shape := ⟨1, ![319]⟩
abbrev S1x64x1 : Shape := ⟨3, ![1, 64, 1]⟩
abbrev S1x1x64 : Shape := ⟨3, ![1, 1, 64]⟩
abbrev S320x64x1 : Shape := ⟨3, ![320, 64, 1]⟩
abbrev S320x1x64 : Shape := ⟨3, ![320, 1, 64]⟩
abbrev S320x64x64 : Shape := ⟨3, ![320, 64, 64]⟩
abbrev S1x64x64 : Shape := ⟨3, ![1, 64, 64]⟩

class Facts : Prop where
  bcast_S320_S320x1x1_0 : S320.BroadcastsInDim S320x1x1 (![0] : Fin 1 → Fin S320x1x1.rank)
  slices_S193_S1_0 : S193.Slices ![0] S1
  shapeCasts_S1_S_ : S1.ShapeCasts S_
  slices_S193_S64_65 : S193.Slices ![65] S64
  slices_S193_S64_129 : S193.Slices ![129] S64
  slices_S320_S319_1 : S320.Slices ![1] S319
  slices_S320_S1_0 : S320.Slices ![0] S1
  concatenates_S319_S1_S320_d0 : Shape.Concatenates [S319, S1] S320 0
  bcast_S64_S1x64x1_1 : S64.BroadcastsInDim S1x64x1 (![1] : Fin 1 → Fin S1x64x1.rank)
  bcast_S64_S1x1x64_2 : S64.BroadcastsInDim S1x1x64 (![2] : Fin 1 → Fin S1x1x64.rank)
  bcast_S_S320x1x1 : S_.BroadcastsInDim S320x1x1 (![] : Fin 0 → Fin S320x1x1.rank)
  bcast_S320x1x1_S320x64x1_0_1_2 : S320x1x1.BroadcastsInDim S320x64x1 (![0, 1, 2] : Fin 3 → Fin S320x64x1.rank)
  bcast_S1x64x1_S320x64x1_0_1_2 : S1x64x1.BroadcastsInDim S320x64x1 (![0, 1, 2] : Fin 3 → Fin S320x64x1.rank)
  bcast_S320x1x1_S320x1x64_0_1_2 : S320x1x1.BroadcastsInDim S320x1x64 (![0, 1, 2] : Fin 3 → Fin S320x1x64.rank)
  bcast_S1x1x64_S320x1x64_0_1_2 : S1x1x64.BroadcastsInDim S320x1x64 (![0, 1, 2] : Fin 3 → Fin S320x1x64.rank)
  bcast_S320x64x1_S320x64x64_0_1_2 : S320x64x1.BroadcastsInDim S320x64x64 (![0, 1, 2] : Fin 3 → Fin S320x64x64.rank)
  bcast_S320x1x64_S320x64x64_0_1_2 : S320x1x64.BroadcastsInDim S320x64x64 (![0, 1, 2] : Fin 3 → Fin S320x64x64.rank)
  bcast_S1x64x1_S1x64x64_0_1_2 : S1x64x1.BroadcastsInDim S1x64x64 (![0, 1, 2] : Fin 3 → Fin S1x64x64.rank)
  bcast_S1x1x64_S1x64x64_0_1_2 : S1x1x64.BroadcastsInDim S1x64x64 (![0, 1, 2] : Fin 3 → Fin S1x64x64.rank)
  bcast_S1x64x64_S320x64x64_0_1_2 : S1x64x64.BroadcastsInDim S320x64x64 (![0, 1, 2] : Fin 3 → Fin S320x64x64.rank)
  bcast_S_S1x64x1 : S_.BroadcastsInDim S1x64x1 (![] : Fin 0 → Fin S1x64x1.rank)

variable [Facts]

def fn_part3 {F : FTy → Type} [FloatOps F] (main_v13 : IVec S1x1x64 32) (main_v14 : IVec S1x64x1 32) (main_v15 : IVec S1x1x64 32) (main_v16 : IVec S1x64x1 32) (main_v36 : IVec S320x64x64 1) (main_v45 : IVec S320x64x1 1) (main_v60 : IVec S320x64x1 1) (main_v63 : IVec S320x64x1 1) : IVec S320x64x64 1 :=
  let main_v64 : IVec S320x64x1 1 := andi main_v60 main_v63
  let main_v65 : IVec S320x64x64 1 := noti main_v36
  let main_v66 : IVec S1x64x64 32 := broadcastInDim S1x64x64 ![0, 1, 2] bcast_S1x64x1_S1x64x64_0_1_2 main_v16
  let main_v67 : IVec S1x64x64 32 := broadcastInDim S1x64x64 ![0, 1, 2] bcast_S1x1x64_S1x64x64_0_1_2 main_v13
  let main_v68 : IVec S1x64x64 1 := cmpi .eq main_v66 main_v67
  let main_c_7 : IVec S_ 32 := constantI S_ 32 1#32
  let main_v69 : IVec S1x64x1 32 := broadcastInDim S1x64x1 ![] bcast_S_S1x64x1 main_c_7
  let main_v70 : IVec S1x64x1 32 := subi main_v69 main_v14
  let main_v71 : IVec S1x64x64 32 := broadcastInDim S1x64x64 ![0, 1, 2] bcast_S1x1x64_S1x64x64_0_1_2 main_v15
  let main_v72 : IVec S1x64x64 32 := broadcastInDim S1x64x64 ![0, 1, 2] bcast_S1x64x1_S1x64x64_0_1_2 main_v70
  let main_v73 : IVec S1x64x64 1 := cmpi .eq main_v71 main_v72
  let main_v74 : IVec S1x64x64 1 := andi main_v68 main_v73
  let main_v75 : IVec S320x64x64 1 := broadcastInDim S320x64x64 ![0, 1, 2] bcast_S1x64x64_S320x64x64_0_1_2 main_v74
  let main_v76 : IVec S320x64x64 1 := ori main_v65 main_v75
  let main_v77 : IVec S320x64x64 1 := broadcastInDim S320x64x64 ![0, 1, 2] bcast_S320x64x1_S320x64x64_0_1_2 main_v64
  let main_v78 : IVec S320x64x64 1 := andi main_v77 main_v76
  let main_v79 : IVec S320x64x1 1 := noti main_v45
  let main_c_8 : IVec S_ 32 := constantI S_ 32 0#32
  let main_v80 : IVec S1x64x1 32 := broadcastInDim S1x64x1 ![] bcast_S_S1x64x1 main_c_8
  let main_v81 : IVec S1x64x1 1 := cmpi .slt main_v16 main_v80
  let main_v82 : IVec S320x64x1 1 := broadcastInDim S320x64x1 ![0, 1, 2] bcast_S1x64x1_S320x64x1_0_1_2 main_v81
  let main_v83 : IVec S320x64x1 1 := ori main_v79 main_v82
  let main_v84 : IVec S320x64x64 1 := broadcastInDim S320x64x64 ![0, 1, 2] bcast_S320x64x1_S320x64x64_0_1_2 main_v83
  let main_v85 : IVec S320x64x64 1 := andi main_v78 main_v84
  main_v85

def fn_part2 {F : FTy → Type} [FloatOps F] (main_v4 : IVec S_ 32) (main_v7 : IVec S320x1x1 32) (main_v13 : IVec S1x1x64 32) (main_v14 : IVec S1x64x1 32) (main_v15 : IVec S1x1x64 32) (main_v16 : IVec S1x64x1 32) (main_v36 : IVec S320x64x64 1) (main_v45 : IVec S320x64x1 1) : IVec S320x64x64 1 :=
  let main_c_1 : IVec S_ 32 := constantI S_ 32 0#32
  let main_v46 : IVec S_ 1 := cmpi .sge main_v4 main_c_1
  let main_c_2 : IVec S_ 32 := constantI S_ 32 320#32
  let main_v47 : IVec S_ 1 := cmpi .sle main_v4 main_c_2
  let main_v48 : IVec S_ 1 := andi main_v46 main_v47
  let main_c_3 : IVec S_ 32 := constantI S_ 32 0#32
  let main_v49 : IVec S320x1x1 32 := broadcastInDim S320x1x1 ![] bcast_S_S320x1x1 main_c_3
  let main_v50 : IVec S320x1x1 1 := cmpi .sge main_v7 main_v49
  let main_v51 : IVec S320x1x1 1 := broadcastInDim S320x1x1 ![] bcast_S_S320x1x1 main_v48
  let main_v52 : IVec S320x1x1 1 := andi main_v51 main_v50
  let main_c_4 : IVec S_ 32 := constantI S_ 32 64#32
  let main_v53 : IVec S320x1x1 32 := broadcastInDim S320x1x1 ![] bcast_S_S320x1x1 main_c_4
  let main_v54 : IVec S320x1x1 1 := cmpi .slt main_v7 main_v53
  let main_v55 : IVec S320x1x1 1 := andi main_v52 main_v54
  let main_c_5 : IVec S_ 32 := constantI S_ 32 0#32
  let main_v56 : IVec S1x64x1 32 := broadcastInDim S1x64x1 ![] bcast_S_S1x64x1 main_c_5
  let main_v57 : IVec S1x64x1 1 := cmpi .sge main_v14 main_v56
  let main_v58 : IVec S320x64x1 1 := broadcastInDim S320x64x1 ![0, 1, 2] bcast_S320x1x1_S320x64x1_0_1_2 main_v55
  let main_v59 : IVec S320x64x1 1 := broadcastInDim S320x64x1 ![0, 1, 2] bcast_S1x64x1_S320x64x1_0_1_2 main_v57
  let main_v60 : IVec S320x64x1 1 := andi main_v58 main_v59
  let main_c_6 : IVec S_ 32 := constantI S_ 32 2#32
  let main_v61 : IVec S1x64x1 32 := broadcastInDim S1x64x1 ![] bcast_S_S1x64x1 main_c_6
  let main_v62 : IVec S1x64x1 1 := cmpi .slt main_v14 main_v61
  let main_v63 : IVec S320x64x1 1 := broadcastInDim S320x64x1 ![0, 1, 2] bcast_S1x64x1_S320x64x1_0_1_2 main_v62
  fn_part3 (F := F) main_v13 main_v14 main_v15 main_v16 main_v36 main_v45 main_v60 main_v63

def fn_part1 {F : FTy → Type} [FloatOps F] (main_v1 : IVec S320x1x1 32) (main_v4 : IVec S_ 32) (main_v7 : IVec S320x1x1 32) (main_v11 : IVec S320x1x1 32) (main_v12 : IVec S1x64x1 32) (main_v13 : IVec S1x1x64 32) (main_v14 : IVec S1x64x1 32) (main_v15 : IVec S1x1x64 32) (main_v16 : IVec S1x64x1 32) (main_v20 : IVec S320x1x1 1) (main_v21 : IVec S320x64x1 32) (main_v22 : IVec S320x64x1 32) : IVec S320x64x64 1 :=
  let main_v23 : IVec S320x64x1 1 := cmpi .eq main_v21 main_v22
  let main_v24 : IVec S320x64x1 1 := broadcastInDim S320x64x1 ![0, 1, 2] bcast_S320x1x1_S320x64x1_0_1_2 main_v20
  let main_v25 : IVec S320x64x1 1 := andi main_v24 main_v23
  let main_v26 : IVec S320x1x64 32 := broadcastInDim S320x1x64 ![0, 1, 2] bcast_S320x1x1_S320x1x64_0_1_2 main_v11
  let main_v27 : IVec S320x1x64 32 := broadcastInDim S320x1x64 ![0, 1, 2] bcast_S1x1x64_S320x1x64_0_1_2 main_v13
  let main_v28 : IVec S320x1x64 1 := cmpi .eq main_v26 main_v27
  let main_v29 : IVec S320x64x64 1 := broadcastInDim S320x64x64 ![0, 1, 2] bcast_S320x64x1_S320x64x64_0_1_2 main_v25
  let main_v30 : IVec S320x64x64 1 := broadcastInDim S320x64x64 ![0, 1, 2] bcast_S320x1x64_S320x64x64_0_1_2 main_v28
  let main_v31 : IVec S320x64x64 1 := andi main_v29 main_v30
  let main_v32 : IVec S1x64x64 32 := broadcastInDim S1x64x64 ![0, 1, 2] bcast_S1x64x1_S1x64x64_0_1_2 main_v12
  let main_v33 : IVec S1x64x64 32 := broadcastInDim S1x64x64 ![0, 1, 2] bcast_S1x1x64_S1x64x64_0_1_2 main_v13
  let main_v34 : IVec S1x64x64 1 := cmpi .ne main_v32 main_v33
  let main_v35 : IVec S320x64x64 1 := broadcastInDim S320x64x64 ![0, 1, 2] bcast_S1x64x64_S320x64x64_0_1_2 main_v34
  let main_v36 : IVec S320x64x64 1 := andi main_v31 main_v35
  let main_c_0 : IVec S_ 32 := constantI S_ 32 1#32
  let main_v37 : IVec S320x1x1 32 := broadcastInDim S320x1x1 ![] bcast_S_S320x1x1 main_c_0
  let main_v38 : IVec S320x1x1 32 := addi main_v1 main_v37
  let main_v39 : IVec S320x1x1 32 := broadcastInDim S320x1x1 ![] bcast_S_S320x1x1 main_v4
  let main_v40 : IVec S320x1x1 1 := cmpi .eq main_v38 main_v39
  let main_v41 : IVec S320x64x1 32 := broadcastInDim S320x64x1 ![0, 1, 2] bcast_S320x1x1_S320x64x1_0_1_2 main_v7
  let main_v42 : IVec S320x64x1 32 := broadcastInDim S320x64x1 ![0, 1, 2] bcast_S1x64x1_S320x64x1_0_1_2 main_v12
  let main_v43 : IVec S320x64x1 1 := cmpi .eq main_v41 main_v42
  let main_v44 : IVec S320x64x1 1 := broadcastInDim S320x64x1 ![0, 1, 2] bcast_S320x1x1_S320x64x1_0_1_2 main_v40
  let main_v45 : IVec S320x64x1 1 := andi main_v44 main_v43
  fn_part2 (F := F) main_v4 main_v7 main_v13 main_v14 main_v15 main_v16 main_v36 main_v45

def fn {F : FTy → Type} [FloatOps F] (main_arg0 : IVec S320 32) (main_arg1 : IVec S81920 32) (main_arg2 : IVec S193 32) (main_arg3 : IVec S65536x128 32) (main_arg4 : FVec F S8192x128 .f32) (main_arg5 : FVec F S64x2048x512 .f32) (main_arg6 : FVec F S64x2048x512 .f32) : IVec S320x64x64 1 :=
  let main_v0 : IVec S320 32 := iotaInDim S320 32 0
  let main_v1 : IVec S320x1x1 32 := broadcastInDim S320x1x1 ![0] bcast_S320_S320x1x1_0 main_v0
  let main_v2 : IVec S64 32 := iotaInDim S64 32 0
  let main_v3 : IVec S1 32 := (extractStridedSlice S1 ![0] · slices_S193_S1_0) main_arg2
  let main_v4 : IVec S_ 32 := shapeCast S_ main_v3 shapeCasts_S1_S_
  let main_v5 : IVec S64 32 := (extractStridedSlice S64 ![65] · slices_S193_S64_65) main_arg2
  let main_v6 : IVec S64 32 := (extractStridedSlice S64 ![129] · slices_S193_S64_129) main_arg2
  let main_v7 : IVec S320x1x1 32 := broadcastInDim S320x1x1 ![0] bcast_S320_S320x1x1_0 main_arg0
  let main_v8 : IVec S319 32 := (extractStridedSlice S319 ![1] · slices_S320_S319_1) main_arg0
  let main_v9 : IVec S1 32 := (extractStridedSlice S1 ![0] · slices_S320_S1_0) main_arg0
  let main_v10 : IVec S320 32 := (fun a b => concatenate S320 0 [⟨S319, a⟩, ⟨S1, b⟩] concatenates_S319_S1_S320_d0) main_v8 main_v9
  let main_v11 : IVec S320x1x1 32 := broadcastInDim S320x1x1 ![0] bcast_S320_S320x1x1_0 main_v10
  let main_v12 : IVec S1x64x1 32 := broadcastInDim S1x64x1 ![1] bcast_S64_S1x64x1_1 main_v2
  let main_v13 : IVec S1x1x64 32 := broadcastInDim S1x1x64 ![2] bcast_S64_S1x1x64_2 main_v2
  let main_v14 : IVec S1x64x1 32 := broadcastInDim S1x64x1 ![1] bcast_S64_S1x64x1_1 main_v5
  let main_v15 : IVec S1x1x64 32 := broadcastInDim S1x1x64 ![2] bcast_S64_S1x1x64_2 main_v5
  let main_v16 : IVec S1x64x1 32 := broadcastInDim S1x64x1 ![1] bcast_S64_S1x64x1_1 main_v6
  let main_c : IVec S_ 32 := constantI S_ 32 1#32
  let main_v17 : IVec S320x1x1 32 := broadcastInDim S320x1x1 ![] bcast_S_S320x1x1 main_c
  let main_v18 : IVec S320x1x1 32 := addi main_v1 main_v17
  let main_v19 : IVec S320x1x1 32 := broadcastInDim S320x1x1 ![] bcast_S_S320x1x1 main_v4
  let main_v20 : IVec S320x1x1 1 := cmpi .slt main_v18 main_v19
  let main_v21 : IVec S320x64x1 32 := broadcastInDim S320x64x1 ![0, 1, 2] bcast_S320x1x1_S320x64x1_0_1_2 main_v7
  let main_v22 : IVec S320x64x1 32 := broadcastInDim S320x64x1 ![0, 1, 2] bcast_S1x64x1_S320x64x1_0_1_2 main_v12
  fn_part1 (F := F) main_v1 main_v4 main_v7 main_v11 main_v12 main_v13 main_v14 main_v15 main_v16 main_v20 main_v21 main_v22
-- ==== Kernel.lean ====
abbrev S320 : Shape := ⟨1, ![320]⟩
abbrev S81920 : Shape := ⟨1, ![81920]⟩
abbrev S193 : Shape := ⟨1, ![193]⟩
abbrev S65536x128 : Shape := ⟨2, ![65536, 128]⟩
abbrev S8192x128 : Shape := ⟨2, ![8192, 128]⟩
abbrev S64x2048x512 : Shape := ⟨3, ![64, 2048, 512]⟩
abbrev S81920x512 : Shape := ⟨2, ![81920, 512]⟩
abbrev S512x512 : Shape := ⟨2, ![512, 512]⟩
abbrev S2048x128 : Shape := ⟨2, ![2048, 128]⟩
abbrev S256x2048 : Shape := ⟨2, ![256, 2048]⟩
abbrev S256x128 : Shape := ⟨2, ![256, 128]⟩
abbrev S2048x1024 : Shape := ⟨2, ![2048, 1024]⟩
abbrev S2x2x2048x512 : Shape := ⟨4, ![2, 2, 2048, 512]⟩
abbrev S2x2 : Shape := ⟨2, ![2, 2]⟩
abbrev S1 : Shape := ⟨1, ![1]⟩
abbrev S8x128 : Shape := ⟨2, ![8, 128]⟩
abbrev S1x128 : Shape := ⟨2, ![1, 128]⟩
abbrev S256x8x128 : Shape := ⟨3, ![256, 8, 128]⟩
abbrev S8x256x128 : Shape := ⟨3, ![8, 256, 128]⟩
abbrev S1x256x128 : Shape := ⟨3, ![1, 256, 128]⟩
abbrev S1x1 : Shape := ⟨2, ![1, 1]⟩
abbrev S_ : Shape := ⟨0, ![]⟩
abbrev S1x1x2048x512 : Shape := ⟨4, ![1, 1, 2048, 512]⟩
abbrev S2048x512 : Shape := ⟨2, ![2048, 512]⟩
abbrev S1x2048x512 : Shape := ⟨3, ![1, 2048, 512]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩

abbrev nBuf : Space → Nat
  | .hbm => 5
  | .vmem => 11
  | .smem => 3
  | _ => 0

abbrev bufTy : (tb : Table) → Fin (tcTables nBuf tb) → BufTy
  | .hbm, ⟨0, _⟩ => ⟨S65536x128, .i32⟩
  | .hbm, ⟨1, _⟩ => ⟨S8192x128, .f32⟩
  | .hbm, ⟨2, _⟩ => ⟨S64x2048x512, .f32⟩
  | .hbm, ⟨3, _⟩ => ⟨S64x2048x512, .f32⟩
  | .hbm, ⟨4, _⟩ => ⟨S81920x512, .bf16⟩
  | .local _ .vmem, ⟨0, _⟩ => ⟨S65536x128, .i32⟩
  | .local _ .vmem, ⟨1, _⟩ => ⟨S8192x128, .f32⟩
  | .local _ .vmem, ⟨2, _⟩ => ⟨S512x512, .bf16⟩
  | .local _ .vmem, ⟨3, _⟩ => ⟨S512x512, .bf16⟩
  | .local _ .vmem, ⟨4, _⟩ => ⟨S2048x128, .i32⟩
  | .local _ .vmem, ⟨5, _⟩ => ⟨S256x2048, .bf16⟩
  | .local _ .vmem, ⟨6, _⟩ => ⟨S256x2048, .bf16⟩
  | .local _ .vmem, ⟨7, _⟩ => ⟨S256x128, .f32⟩
  | .local _ .vmem, ⟨8, _⟩ => ⟨S256x128, .f32⟩
  | .local _ .vmem, ⟨9, _⟩ => ⟨S2048x1024, .bf16⟩
  | .local _ .vmem, ⟨10, _⟩ => ⟨S2x2x2048x512, .f32⟩
  | .local _ .smem, ⟨0, _⟩ => ⟨S320, .i32⟩
  | .local _ .smem, ⟨1, _⟩ => ⟨S81920, .i32⟩
  | .local _ .smem, ⟨2, _⟩ => ⟨S193, .i32⟩
  | _, _ => ⟨S65536x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v72 : BitVec 32) : BitVec 32 :=
  let c3_i32 : BitVec 32 := 3#32
  let v73 : BitVec 32 := Scalar.shrsi v72 c3_i32
  let c8191_i32 : BitVec 32 := 8191#32
  let v74 : BitVec 32 := Scalar.andi v73 c8191_i32
  let c8_i32 : BitVec 32 := 8#32
  let v75 : BitVec 32 := Scalar.muli v74 c8_i32
  v75

def k0_off1 (v72 : BitVec 32) : Fin 2 → Nat :=
  let c3_i32 : BitVec 32 := 3#32
  let v73 : BitVec 32 := Scalar.shrsi v72 c3_i32
  let c8191_i32 : BitVec 32 := 8191#32
  let v74 : BitVec 32 := Scalar.andi v73 c8191_i32
  let c8_i32 : BitVec 32 := 8#32
  let v75 : BitVec 32 := Scalar.muli v74 c8_i32
  let v76 : BitVec 32 := v75
  let v77 : Index := Scalar.indexCast v76
  let c0_26 : Index := 0#32
  ![v77.toNat, 0]
def k0_off2 (v72 : BitVec 32) : Fin 2 → Nat :=
  let c3_i32 : BitVec 32 := 3#32
  let v73 : BitVec 32 := Scalar.shrsi v72 c3_i32
  let c8191_i32 : BitVec 32 := 8191#32
  let v74 : BitVec 32 := Scalar.andi v73 c8191_i32
  let v82 : Index := Scalar.indexCast v74
  let c0_29 : Index := 0#32
  ![v82.toNat, 0]

def k0_chk1 (i : grid0.Coords) (v72 : BitVec 32) : Prop :=
  (∀ (k0_h1 : k0_cond1 i = 1#1), 8 ∣ (k0_mult1 v72).toNat) ∧
  (∀ (k0_h1 : k0_cond1 i = 1#1), ∀ a, (k0_off1 v72) a + S8x128.size a ≤ S65536x128.size a) ∧
  (∀ (k0_h1 : k0_cond1 i = 1#1), ∀ a, (k0_off2 v72) a + S1x128.size a ≤ S8192x128.size a)
theorem k0_mult1_dvd : ∀ (i : grid0.Coords) (v72 : BitVec 32) (k0_hw1 : k0_chk1 i v72), ∀ (k0_h1 : k0_cond1 i = 1#1), 8 ∣ (k0_mult1 v72).toNat := fun i v72 k0_hw1 k0_h1 => k0_hw1.1 k0_h1
theorem k0_off1_inb : ∀ (i : grid0.Coords) (v72 : BitVec 32) (k0_hw1 : k0_chk1 i v72), ∀ (k0_h1 : k0_cond1 i = 1#1), ∀ a, (k0_off1 v72) a + S8x128.size a ≤ S65536x128.size a := fun i v72 k0_hw1 k0_h1 => k0_hw1.2.1 k0_h1
theorem k0_off2_inb : ∀ (i : grid0.Coords) (v72 : BitVec 32) (k0_hw1 : k0_chk1 i v72), ∀ (k0_h1 : k0_cond1 i = 1#1), ∀ a, (k0_off2 v72) a + S1x128.size a ≤ S8192x128.size a := fun i v72 k0_hw1 k0_h1 => k0_hw1.2.2 k0_h1

def k0_mult2 (v87 : BitVec 32) : BitVec 32 :=
  let c3_i32_32 : BitVec 32 := 3#32
  let v88 : BitVec 32 := Scalar.shrsi v87 c3_i32_32
  let c8191_i32_33 : BitVec 32 := 8191#32
  let v89 : BitVec 32 := Scalar.andi v88 c8191_i32_33
  let c8_i32_34 : BitVec 32 := 8#32
  let v90 : BitVec 32 := Scalar.muli v89 c8_i32_34
  v90

def k0_off3 (v87 : BitVec 32) : Fin 2 → Nat :=
  let c3_i32_32 : BitVec 32 := 3#32
  let v88 : BitVec 32 := Scalar.shrsi v87 c3_i32_32
  let c8191_i32_33 : BitVec 32 := 8191#32
  let v89 : BitVec 32 := Scalar.andi v88 c8191_i32_33
  let c8_i32_34 : BitVec 32 := 8#32
  let v90 : BitVec 32 := Scalar.muli v89 c8_i32_34
  let v91 : BitVec 32 := v90
  let v92 : Index := Scalar.indexCast v91
  let c0_35 : Index := 0#32
  ![v92.toNat, 0]
def k0_off4 (v87 : BitVec 32) : Fin 2 → Nat :=
  let c3_i32_32 : BitVec 32 := 3#32
  let v88 : BitVec 32 := Scalar.shrsi v87 c3_i32_32
  let c8191_i32_33 : BitVec 32 := 8191#32
  let v89 : BitVec 32 := Scalar.andi v88 c8191_i32_33
  let v97 : Index := Scalar.indexCast v89
  let c0_37 : Index := 0#32
  ![v97.toNat, 0]

def k0_chk2 (i : grid0.Coords) (v87 : BitVec 32) : Prop :=
  (∀ (k0_h1 : k0_cond1 i = 1#1), 8 ∣ (k0_mult2 v87).toNat) ∧
  (∀ (k0_h1 : k0_cond1 i = 1#1), ∀ a, (k0_off3 v87) a + S8x128.size a ≤ S65536x128.size a) ∧
  (∀ (k0_h1 : k0_cond1 i = 1#1), ∀ a, (k0_off4 v87) a + S1x128.size a ≤ S8192x128.size a)
theorem k0_mult2_dvd : ∀ (i : grid0.Coords) (v87 : BitVec 32) (k0_hw2 : k0_chk2 i v87), ∀ (k0_h1 : k0_cond1 i = 1#1), 8 ∣ (k0_mult2 v87).toNat := fun i v87 k0_hw2 k0_h1 => k0_hw2.1 k0_h1
theorem k0_off3_inb : ∀ (i : grid0.Coords) (v87 : BitVec 32) (k0_hw2 : k0_chk2 i v87), ∀ (k0_h1 : k0_cond1 i = 1#1), ∀ a, (k0_off3 v87) a + S8x128.size a ≤ S65536x128.size a := fun i v87 k0_hw2 k0_h1 => k0_hw2.2.1 k0_h1
theorem k0_off4_inb : ∀ (i : grid0.Coords) (v87 : BitVec 32) (k0_hw2 : k0_chk2 i v87), ∀ (k0_h1 : k0_cond1 i = 1#1), ∀ a, (k0_off4 v87) a + S1x128.size a ≤ S8192x128.size a := fun i v87 k0_hw2 k0_h1 => k0_hw2.2.2 k0_h1

def k0_mult3 (v102 : BitVec 32) : BitVec 32 :=
  let c3_i32_40 : BitVec 32 := 3#32
  let v103 : BitVec 32 := Scalar.shrsi v102 c3_i32_40
  let c8191_i32_41 : BitVec 32 := 8191#32
  let v104 : BitVec 32 := Scalar.andi v103 c8191_i32_41
  let c8_i32_42 : BitVec 32 := 8#32
  let v105 : BitVec 32 := Scalar.muli v104 c8_i32_42
  v105

def k0_off5 (v102 : BitVec 32) : Fin 2 → Nat :=
  let c3_i32_40 : BitVec 32 := 3#32
  let v103 : BitVec 32 := Scalar.shrsi v102 c3_i32_40
  let c8191_i32_41 : BitVec 32 := 8191#32
  let v104 : BitVec 32 := Scalar.andi v103 c8191_i32_41
  let c8_i32_42 : BitVec 32 := 8#32
  let v105 : BitVec 32 := Scalar.muli v104 c8_i32_42
  let v106 : BitVec 32 := v105
  let v107 : Index := Scalar.indexCast v106
  let c0_43 : Index := 0#32
  ![v107.toNat, 0]
def k0_off6 (v102 : BitVec 32) : Fin 2 → Nat :=
  let c3_i32_40 : BitVec 32 := 3#32
  let v103 : BitVec 32 := Scalar.shrsi v102 c3_i32_40
  let c8191_i32_41 : BitVec 32 := 8191#32
  let v104 : BitVec 32 := Scalar.andi v103 c8191_i32_41
  let v112 : Index := Scalar.indexCast v104
  let c0_45 : Index := 0#32
  ![v112.toNat, 0]

def k0_chk3 (i : grid0.Coords) (v102 : BitVec 32) : Prop :=
  (∀ (k0_h1 : k0_cond1 i = 1#1), 8 ∣ (k0_mult3 v102).toNat) ∧
  (∀ (k0_h1 : k0_cond1 i = 1#1), ∀ a, (k0_off5 v102) a + S8x128.size a ≤ S65536x128.size a) ∧
  (∀ (k0_h1 : k0_cond1 i = 1#1), ∀ a, (k0_off6 v102) a + S1x128.size a ≤ S8192x128.size a)
theorem k0_mult3_dvd : ∀ (i : grid0.Coords) (v102 : BitVec 32) (k0_hw3 : k0_chk3 i v102), ∀ (k0_h1 : k0_cond1 i = 1#1), 8 ∣ (k0_mult3 v102).toNat := fun i v102 k0_hw3 k0_h1 => k0_hw3.1 k0_h1
theorem k0_off5_inb : ∀ (i : grid0.Coords) (v102 : BitVec 32) (k0_hw3 : k0_chk3 i v102), ∀ (k0_h1 : k0_cond1 i = 1#1), ∀ a, (k0_off5 v102) a + S8x128.size a ≤ S65536x128.size a := fun i v102 k0_hw3 k0_h1 => k0_hw3.2.1 k0_h1
theorem k0_off6_inb : ∀ (i : grid0.Coords) (v102 : BitVec 32) (k0_hw3 : k0_chk3 i v102), ∀ (k0_h1 : k0_cond1 i = 1#1), ∀ a, (k0_off6 v102) a + S1x128.size a ≤ S8192x128.size a := fun i v102 k0_hw3 k0_h1 => k0_hw3.2.2 k0_h1

def k0_mult4 (v117 : BitVec 32) : BitVec 32 :=
  let c3_i32_48 : BitVec 32 := 3#32
  let v118 : BitVec 32 := Scalar.shrsi v117 c3_i32_48
  let c8191_i32_49 : BitVec 32 := 8191#32
  let v119 : BitVec 32 := Scalar.andi v118 c8191_i32_49
  let c8_i32_50 : BitVec 32 := 8#32
  let v120 : BitVec 32 := Scalar.muli v119 c8_i32_50
  v120

def k0_off7 (v117 : BitVec 32) : Fin 2 → Nat :=
  let c3_i32_48 : BitVec 32 := 3#32
  let v118 : BitVec 32 := Scalar.shrsi v117 c3_i32_48
  let c8191_i32_49 : BitVec 32 := 8191#32
  let v119 : BitVec 32 := Scalar.andi v118 c8191_i32_49
  let c8_i32_50 : BitVec 32 := 8#32
  let v120 : BitVec 32 := Scalar.muli v119 c8_i32_50
  let v121 : BitVec 32 := v120
  let v122 : Index := Scalar.indexCast v121
  let c0_51 : Index := 0#32
  ![v122.toNat, 0]
def k0_off8 (v117 : BitVec 32) : Fin 2 → Nat :=
  let c3_i32_48 : BitVec 32 := 3#32
  let v118 : BitVec 32 := Scalar.shrsi v117 c3_i32_48
  let c8191_i32_49 : BitVec 32 := 8191#32
  let v119 : BitVec 32 := Scalar.andi v118 c8191_i32_49
  let v127 : Index := Scalar.indexCast v119
  let c0_53 : Index := 0#32
  ![v127.toNat, 0]

def k0_chk4 (i : grid0.Coords) (v117 : BitVec 32) : Prop :=
  (∀ (k0_h1 : k0_cond1 i = 1#1), 8 ∣ (k0_mult4 v117).toNat) ∧
  (∀ (k0_h1 : k0_cond1 i = 1#1), ∀ a, (k0_off7 v117) a + S8x128.size a ≤ S65536x128.size a) ∧
  (∀ (k0_h1 : k0_cond1 i = 1#1), ∀ a, (k0_off8 v117) a + S1x128.size a ≤ S8192x128.size a)
theorem k0_mult4_dvd : ∀ (i : grid0.Coords) (v117 : BitVec 32) (k0_hw4 : k0_chk4 i v117), ∀ (k0_h1 : k0_cond1 i = 1#1), 8 ∣ (k0_mult4 v117).toNat := fun i v117 k0_hw4 k0_h1 => k0_hw4.1 k0_h1
theorem k0_off7_inb : ∀ (i : grid0.Coords) (v117 : BitVec 32) (k0_hw4 : k0_chk4 i v117), ∀ (k0_h1 : k0_cond1 i = 1#1), ∀ a, (k0_off7 v117) a + S8x128.size a ≤ S65536x128.size a := fun i v117 k0_hw4 k0_h1 => k0_hw4.2.1 k0_h1
theorem k0_off8_inb : ∀ (i : grid0.Coords) (v117 : BitVec 32) (k0_hw4 : k0_chk4 i v117), ∀ (k0_h1 : k0_cond1 i = 1#1), ∀ a, (k0_off8 v117) a + S1x128.size a ≤ S8192x128.size a := fun i v117 k0_hw4 k0_h1 => k0_hw4.2.2 k0_h1

def k0_mult5 (v132 : BitVec 32) : BitVec 32 :=
  let c3_i32_56 : BitVec 32 := 3#32
  let v133 : BitVec 32 := Scalar.shrsi v132 c3_i32_56
  let c8191_i32_57 : BitVec 32 := 8191#32
  let v134 : BitVec 32 := Scalar.andi v133 c8191_i32_57
  let c8_i32_58 : BitVec 32 := 8#32
  let v135 : BitVec 32 := Scalar.muli v134 c8_i32_58
  v135

def k0_off9 (v132 : BitVec 32) : Fin 2 → Nat :=
  let c3_i32_56 : BitVec 32 := 3#32
  let v133 : BitVec 32 := Scalar.shrsi v132 c3_i32_56
  let c8191_i32_57 : BitVec 32 := 8191#32
  let v134 : BitVec 32 := Scalar.andi v133 c8191_i32_57
  let c8_i32_58 : BitVec 32 := 8#32
  let v135 : BitVec 32 := Scalar.muli v134 c8_i32_58
  let v136 : BitVec 32 := v135
  let v137 : Index := Scalar.indexCast v136
  let c0_59 : Index := 0#32
  ![v137.toNat, 0]
def k0_off10 (v132 : BitVec 32) : Fin 2 → Nat :=
  let c3_i32_56 : BitVec 32 := 3#32
  let v133 : BitVec 32 := Scalar.shrsi v132 c3_i32_56
  let c8191_i32_57 : BitVec 32 := 8191#32
  let v134 : BitVec 32 := Scalar.andi v133 c8191_i32_57
  let v142 : Index := Scalar.indexCast v134
  let c0_61 : Index := 0#32
  ![v142.toNat, 0]

def k0_chk5 (i : grid0.Coords) (v132 : BitVec 32) : Prop :=
  (∀ (k0_h1 : k0_cond1 i = 1#1), 8 ∣ (k0_mult5 v132).toNat) ∧
  (∀ (k0_h1 : k0_cond1 i = 1#1), ∀ a, (k0_off9 v132) a + S8x128.size a ≤ S65536x128.size a) ∧
  (∀ (k0_h1 : k0_cond1 i = 1#1), ∀ a, (k0_off10 v132) a + S1x128.size a ≤ S8192x128.size a)
theorem k0_mult5_dvd : ∀ (i : grid0.Coords) (v132 : BitVec 32) (k0_hw5 : k0_chk5 i v132), ∀ (k0_h1 : k0_cond1 i = 1#1), 8 ∣ (k0_mult5 v132).toNat := fun i v132 k0_hw5 k0_h1 => k0_hw5.1 k0_h1
theorem k0_off9_inb : ∀ (i : grid0.Coords) (v132 : BitVec 32) (k0_hw5 : k0_chk5 i v132), ∀ (k0_h1 : k0_cond1 i = 1#1), ∀ a, (k0_off9 v132) a + S8x128.size a ≤ S65536x128.size a := fun i v132 k0_hw5 k0_h1 => k0_hw5.2.1 k0_h1
theorem k0_off10_inb : ∀ (i : grid0.Coords) (v132 : BitVec 32) (k0_hw5 : k0_chk5 i v132), ∀ (k0_h1 : k0_cond1 i = 1#1), ∀ a, (k0_off10 v132) a + S1x128.size a ≤ S8192x128.size a := fun i v132 k0_hw5 k0_h1 => k0_hw5.2.2 k0_h1

def k0_mult6 (v147 : BitVec 32) : BitVec 32 :=
  let c3_i32_64 : BitVec 32 := 3#32
  let v148 : BitVec 32 := Scalar.shrsi v147 c3_i32_64
  let c8191_i32_65 : BitVec 32 := 8191#32
  let v149 : BitVec 32 := Scalar.andi v148 c8191_i32_65
  let c8_i32_66 : BitVec 32 := 8#32
  let v150 : BitVec 32 := Scalar.muli v149 c8_i32_66
  v150

def k0_off11 (v147 : BitVec 32) : Fin 2 → Nat :=
  let c3_i32_64 : BitVec 32 := 3#32
  let v148 : BitVec 32 := Scalar.shrsi v147 c3_i32_64
  let c8191_i32_65 : BitVec 32 := 8191#32
  let v149 : BitVec 32 := Scalar.andi v148 c8191_i32_65
  let c8_i32_66 : BitVec 32 := 8#32
  let v150 : BitVec 32 := Scalar.muli v149 c8_i32_66
  let v151 : BitVec 32 := v150
  let v152 : Index := Scalar.indexCast v151
  let c0_67 : Index := 0#32
  ![v152.toNat, 0]
def k0_off12 (v147 : BitVec 32) : Fin 2 → Nat :=
  let c3_i32_64 : BitVec 32 := 3#32
  let v148 : BitVec 32 := Scalar.shrsi v147 c3_i32_64
  let c8191_i32_65 : BitVec 32 := 8191#32
  let v149 : BitVec 32 := Scalar.andi v148 c8191_i32_65
  let v157 : Index := Scalar.indexCast v149
  let c0_69 : Index := 0#32
  ![v157.toNat, 0]

def k0_chk6 (i : grid0.Coords) (v147 : BitVec 32) : Prop :=
  (∀ (k0_h1 : k0_cond1 i = 1#1), 8 ∣ (k0_mult6 v147).toNat) ∧
  (∀ (k0_h1 : k0_cond1 i = 1#1), ∀ a, (k0_off11 v147) a + S8x128.size a ≤ S65536x128.size a) ∧
  (∀ (k0_h1 : k0_cond1 i = 1#1), ∀ a, (k0_off12 v147) a + S1x128.size a ≤ S8192x128.size a)
theorem k0_mult6_dvd : ∀ (i : grid0.Coords) (v147 : BitVec 32) (k0_hw6 : k0_chk6 i v147), ∀ (k0_h1 : k0_cond1 i = 1#1), 8 ∣ (k0_mult6 v147).toNat := fun i v147 k0_hw6 k0_h1 => k0_hw6.1 k0_h1
theorem k0_off11_inb : ∀ (i : grid0.Coords) (v147 : BitVec 32) (k0_hw6 : k0_chk6 i v147), ∀ (k0_h1 : k0_cond1 i = 1#1), ∀ a, (k0_off11 v147) a + S8x128.size a ≤ S65536x128.size a := fun i v147 k0_hw6 k0_h1 => k0_hw6.2.1 k0_h1
theorem k0_off12_inb : ∀ (i : grid0.Coords) (v147 : BitVec 32) (k0_hw6 : k0_chk6 i v147), ∀ (k0_h1 : k0_cond1 i = 1#1), ∀ a, (k0_off12 v147) a + S1x128.size a ≤ S8192x128.size a := fun i v147 k0_hw6 k0_h1 => k0_hw6.2.2 k0_h1

def k0_mult7 (v162 : BitVec 32) : BitVec 32 :=
  let c3_i32_72 : BitVec 32 := 3#32
  let v163 : BitVec 32 := Scalar.shrsi v162 c3_i32_72
  let c8191_i32_73 : BitVec 32 := 8191#32
  let v164 : BitVec 32 := Scalar.andi v163 c8191_i32_73
  let c8_i32_74 : BitVec 32 := 8#32
  let v165 : BitVec 32 := Scalar.muli v164 c8_i32_74
  v165

def k0_off13 (v162 : BitVec 32) : Fin 2 → Nat :=
  let c3_i32_72 : BitVec 32 := 3#32
  let v163 : BitVec 32 := Scalar.shrsi v162 c3_i32_72
  let c8191_i32_73 : BitVec 32 := 8191#32
  let v164 : BitVec 32 := Scalar.andi v163 c8191_i32_73
  let c8_i32_74 : BitVec 32 := 8#32
  let v165 : BitVec 32 := Scalar.muli v164 c8_i32_74
  let v166 : BitVec 32 := v165
  let v167 : Index := Scalar.indexCast v166
  let c0_75 : Index := 0#32
  ![v167.toNat, 0]
def k0_off14 (v162 : BitVec 32) : Fin 2 → Nat :=
  let c3_i32_72 : BitVec 32 := 3#32
  let v163 : BitVec 32 := Scalar.shrsi v162 c3_i32_72
  let c8191_i32_73 : BitVec 32 := 8191#32
  let v164 : BitVec 32 := Scalar.andi v163 c8191_i32_73
  let v172 : Index := Scalar.indexCast v164
  let c0_77 : Index := 0#32
  ![v172.toNat, 0]

def k0_chk7 (i : grid0.Coords) (v162 : BitVec 32) : Prop :=
  (∀ (k0_h1 : k0_cond1 i = 1#1), 8 ∣ (k0_mult7 v162).toNat) ∧
  (∀ (k0_h1 : k0_cond1 i = 1#1), ∀ a, (k0_off13 v162) a + S8x128.size a ≤ S65536x128.size a) ∧
  (∀ (k0_h1 : k0_cond1 i = 1#1), ∀ a, (k0_off14 v162) a + S1x128.size a ≤ S8192x128.size a)
theorem k0_mult7_dvd : ∀ (i : grid0.Coords) (v162 : BitVec 32) (k0_hw7 : k0_chk7 i v162), ∀ (k0_h1 : k0_cond1 i = 1#1), 8 ∣ (k0_mult7 v162).toNat := fun i v162 k0_hw7 k0_h1 => k0_hw7.1 k0_h1
theorem k0_off13_inb : ∀ (i : grid0.Coords) (v162 : BitVec 32) (k0_hw7 : k0_chk7 i v162), ∀ (k0_h1 : k0_cond1 i = 1#1), ∀ a, (k0_off13 v162) a + S8x128.size a ≤ S65536x128.size a := fun i v162 k0_hw7 k0_h1 => k0_hw7.2.1 k0_h1
theorem k0_off14_inb : ∀ (i : grid0.Coords) (v162 : BitVec 32) (k0_hw7 : k0_chk7 i v162), ∀ (k0_h1 : k0_cond1 i = 1#1), ∀ a, (k0_off14 v162) a + S1x128.size a ≤ S8192x128.size a := fun i v162 k0_hw7 k0_h1 => k0_hw7.2.2 k0_h1

def k0_mult8 (v177 : BitVec 32) : BitVec 32 :=
  let c3_i32_80 : BitVec 32 := 3#32
  let v178 : BitVec 32 := Scalar.shrsi v177 c3_i32_80
  let c8191_i32_81 : BitVec 32 := 8191#32
  let v179 : BitVec 32 := Scalar.andi v178 c8191_i32_81
  let c8_i32_82 : BitVec 32 := 8#32
  let v180 : BitVec 32 := Scalar.muli v179 c8_i32_82
  v180

def k0_off15 (v177 : BitVec 32) : Fin 2 → Nat :=
  let c3_i32_80 : BitVec 32 := 3#32
  let v178 : BitVec 32 := Scalar.shrsi v177 c3_i32_80
  let c8191_i32_81 : BitVec 32 := 8191#32
  let v179 : BitVec 32 := Scalar.andi v178 c8191_i32_81
  let c8_i32_82 : BitVec 32 := 8#32
  let v180 : BitVec 32 := Scalar.muli v179 c8_i32_82
  let v181 : BitVec 32 := v180
  let v182 : Index := Scalar.indexCast v181
  let c0_83 : Index := 0#32
  ![v182.toNat, 0]
def k0_off16 (v177 : BitVec 32) : Fin 2 → Nat :=
  let c3_i32_80 : BitVec 32 := 3#32
  let v178 : BitVec 32 := Scalar.shrsi v177 c3_i32_80
  let c8191_i32_81 : BitVec 32 := 8191#32
  let v179 : BitVec 32 := Scalar.andi v178 c8191_i32_81
  let v187 : Index := Scalar.indexCast v179
  let c0_85 : Index := 0#32
  ![v187.toNat, 0]

def k0_chk8 (i : grid0.Coords) (v177 : BitVec 32) : Prop :=
  (∀ (k0_h1 : k0_cond1 i = 1#1), 8 ∣ (k0_mult8 v177).toNat) ∧
  (∀ (k0_h1 : k0_cond1 i = 1#1), ∀ a, (k0_off15 v177) a + S8x128.size a ≤ S65536x128.size a) ∧
  (∀ (k0_h1 : k0_cond1 i = 1#1), ∀ a, (k0_off16 v177) a + S1x128.size a ≤ S8192x128.size a)
theorem k0_mult8_dvd : ∀ (i : grid0.Coords) (v177 : BitVec 32) (k0_hw8 : k0_chk8 i v177), ∀ (k0_h1 : k0_cond1 i = 1#1), 8 ∣ (k0_mult8 v177).toNat := fun i v177 k0_hw8 k0_h1 => k0_hw8.1 k0_h1
theorem k0_off15_inb : ∀ (i : grid0.Coords) (v177 : BitVec 32) (k0_hw8 : k0_chk8 i v177), ∀ (k0_h1 : k0_cond1 i = 1#1), ∀ a, (k0_off15 v177) a + S8x128.size a ≤ S65536x128.size a := fun i v177 k0_hw8 k0_h1 => k0_hw8.2.1 k0_h1
theorem k0_off16_inb : ∀ (i : grid0.Coords) (v177 : BitVec 32) (k0_hw8 : k0_chk8 i v177), ∀ (k0_h1 : k0_cond1 i = 1#1), ∀ a, (k0_off16 v177) a + S1x128.size a ≤ S8192x128.size a := fun i v177 k0_hw8 k0_h1 => k0_hw8.2.2 k0_h1

def k0_mult9 (v192 : BitVec 32) : BitVec 32 :=
  let c3_i32_89 : BitVec 32 := 3#32
  let v193 : BitVec 32 := Scalar.shrsi v192 c3_i32_89
  let c8191_i32_90 : BitVec 32 := 8191#32
  let v194 : BitVec 32 := Scalar.andi v193 c8191_i32_90
  let c8_i32_91 : BitVec 32 := 8#32
  let v195 : BitVec 32 := Scalar.muli v194 c8_i32_91
  v195

def k0_off17 (v192 : BitVec 32) : Fin 2 → Nat :=
  let c3_i32_89 : BitVec 32 := 3#32
  let v193 : BitVec 32 := Scalar.shrsi v192 c3_i32_89
  let c8191_i32_90 : BitVec 32 := 8191#32
  let v194 : BitVec 32 := Scalar.andi v193 c8191_i32_90
  let c8_i32_91 : BitVec 32 := 8#32
  let v195 : BitVec 32 := Scalar.muli v194 c8_i32_91
  let v196 : BitVec 32 := v195
  let v197 : Index := Scalar.indexCast v196
  let c0_92 : Index := 0#32
  ![v197.toNat, 0]
def k0_off18 (v192 : BitVec 32) : Fin 2 → Nat :=
  let c3_i32_89 : BitVec 32 := 3#32
  let v193 : BitVec 32 := Scalar.shrsi v192 c3_i32_89
  let c8191_i32_90 : BitVec 32 := 8191#32
  let v194 : BitVec 32 := Scalar.andi v193 c8191_i32_90
  let v202 : Index := Scalar.indexCast v194
  let c0_94 : Index := 0#32
  ![v202.toNat, 0]

def k0_chk9 (i : grid0.Coords) (v192 : BitVec 32) : Prop :=
  (∀ (k0_h1 : k0_cond1 i = 1#1), 8 ∣ (k0_mult9 v192).toNat) ∧
  (∀ (k0_h1 : k0_cond1 i = 1#1), ∀ a, (k0_off17 v192) a + S8x128.size a ≤ S65536x128.size a) ∧
  (∀ (k0_h1 : k0_cond1 i = 1#1), ∀ a, (k0_off18 v192) a + S1x128.size a ≤ S8192x128.size a)
theorem k0_mult9_dvd : ∀ (i : grid0.Coords) (v192 : BitVec 32) (k0_hw9 : k0_chk9 i v192), ∀ (k0_h1 : k0_cond1 i = 1#1), 8 ∣ (k0_mult9 v192).toNat := fun i v192 k0_hw9 k0_h1 => k0_hw9.1 k0_h1
theorem k0_off17_inb : ∀ (i : grid0.Coords) (v192 : BitVec 32) (k0_hw9 : k0_chk9 i v192), ∀ (k0_h1 : k0_cond1 i = 1#1), ∀ a, (k0_off17 v192) a + S8x128.size a ≤ S65536x128.size a := fun i v192 k0_hw9 k0_h1 => k0_hw9.2.1 k0_h1
theorem k0_off18_inb : ∀ (i : grid0.Coords) (v192 : BitVec 32) (k0_hw9 : k0_chk9 i v192), ∀ (k0_h1 : k0_cond1 i = 1#1), ∀ a, (k0_off18 v192) a + S1x128.size a ≤ S8192x128.size a := fun i v192 k0_hw9 k0_h1 => k0_hw9.2.2 k0_h1

def k0_mult10 (v207 : BitVec 32) : BitVec 32 :=
  let c3_i32_97 : BitVec 32 := 3#32
  let v208 : BitVec 32 := Scalar.shrsi v207 c3_i32_97
  let c8191_i32_98 : BitVec 32 := 8191#32
  let v209 : BitVec 32 := Scalar.andi v208 c8191_i32_98
  let c8_i32_99 : BitVec 32 := 8#32
  let v210 : BitVec 32 := Scalar.muli v209 c8_i32_99
  v210

def k0_off19 (v207 : BitVec 32) : Fin 2 → Nat :=
  let c3_i32_97 : BitVec 32 := 3#32
  let v208 : BitVec 32 := Scalar.shrsi v207 c3_i32_97
  let c8191_i32_98 : BitVec 32 := 8191#32
  let v209 : BitVec 32 := Scalar.andi v208 c8191_i32_98
  let c8_i32_99 : BitVec 32 := 8#32
  let v210 : BitVec 32 := Scalar.muli v209 c8_i32_99
  let v211 : BitVec 32 := v210
  let v212 : Index := Scalar.indexCast v211
  let c0_100 : Index := 0#32
  ![v212.toNat, 0]
def k0_off20 (v207 : BitVec 32) : Fin 2 → Nat :=
  let c3_i32_97 : BitVec 32 := 3#32
  let v208 : BitVec 32 := Scalar.shrsi v207 c3_i32_97
  let c8191_i32_98 : BitVec 32 := 8191#32
  let v209 : BitVec 32 := Scalar.andi v208 c8191_i32_98
  let v217 : Index := Scalar.indexCast v209
  let c0_102 : Index := 0#32
  ![v217.toNat, 0]

def k0_chk10 (i : grid0.Coords) (v207 : BitVec 32) : Prop :=
  (∀ (k0_h1 : k0_cond1 i = 1#1), 8 ∣ (k0_mult10 v207).toNat) ∧
  (∀ (k0_h1 : k0_cond1 i = 1#1), ∀ a, (k0_off19 v207) a + S8x128.size a ≤ S65536x128.size a) ∧
  (∀ (k0_h1 : k0_cond1 i = 1#1), ∀ a, (k0_off20 v207) a + S1x128.size a ≤ S8192x128.size a)
theorem k0_mult10_dvd : ∀ (i : grid0.Coords) (v207 : BitVec 32) (k0_hw10 : k0_chk10 i v207), ∀ (k0_h1 : k0_cond1 i = 1#1), 8 ∣ (k0_mult10 v207).toNat := fun i v207 k0_hw10 k0_h1 => k0_hw10.1 k0_h1
theorem k0_off19_inb : ∀ (i : grid0.Coords) (v207 : BitVec 32) (k0_hw10 : k0_chk10 i v207), ∀ (k0_h1 : k0_cond1 i = 1#1), ∀ a, (k0_off19 v207) a + S8x128.size a ≤ S65536x128.size a := fun i v207 k0_hw10 k0_h1 => k0_hw10.2.1 k0_h1
theorem k0_off20_inb : ∀ (i : grid0.Coords) (v207 : BitVec 32) (k0_hw10 : k0_chk10 i v207), ∀ (k0_h1 : k0_cond1 i = 1#1), ∀ a, (k0_off20 v207) a + S1x128.size a ≤ S8192x128.size a := fun i v207 k0_hw10 k0_h1 => k0_hw10.2.2 k0_h1

def k0_mult11 (v222 : BitVec 32) : BitVec 32 :=
  let c3_i32_105 : BitVec 32 := 3#32
  let v223 : BitVec 32 := Scalar.shrsi v222 c3_i32_105
  let c8191_i32_106 : BitVec 32 := 8191#32
  let v224 : BitVec 32 := Scalar.andi v223 c8191_i32_106
  let c8_i32_107 : BitVec 32 := 8#32
  let v225 : BitVec 32 := Scalar.muli v224 c8_i32_107
  v225

def k0_off21 (v222 : BitVec 32) : Fin 2 → Nat :=
  let c3_i32_105 : BitVec 32 := 3#32
  let v223 : BitVec 32 := Scalar.shrsi v222 c3_i32_105
  let c8191_i32_106 : BitVec 32 := 8191#32
  let v224 : BitVec 32 := Scalar.andi v223 c8191_i32_106
  let c8_i32_107 : BitVec 32 := 8#32
  let v225 : BitVec 32 := Scalar.muli v224 c8_i32_107
  let v226 : BitVec 32 := v225
  let v227 : Index := Scalar.indexCast v226
  let c0_108 : Index := 0#32
  ![v227.toNat, 0]
def k0_off22 (v222 : BitVec 32) : Fin 2 → Nat :=
  let c3_i32_105 : BitVec 32 := 3#32
  let v223 : BitVec 32 := Scalar.shrsi v222 c3_i32_105
  let c8191_i32_106 : BitVec 32 := 8191#32
  let v224 : BitVec 32 := Scalar.andi v223 c8191_i32_106
  let v232 : Index := Scalar.indexCast v224
  let c0_110 : Index := 0#32
  ![v232.toNat, 0]

def k0_chk11 (i : grid0.Coords) (v222 : BitVec 32) : Prop :=
  (∀ (k0_h1 : k0_cond1 i = 1#1), 8 ∣ (k0_mult11 v222).toNat) ∧
  (∀ (k0_h1 : k0_cond1 i = 1#1), ∀ a, (k0_off21 v222) a + S8x128.size a ≤ S65536x128.size a) ∧
  (∀ (k0_h1 : k0_cond1 i = 1#1), ∀ a, (k0_off22 v222) a + S1x128.size a ≤ S8192x128.size a)
theorem k0_mult11_dvd : ∀ (i : grid0.Coords) (v222 : BitVec 32) (k0_hw11 : k0_chk11 i v222), ∀ (k0_h1 : k0_cond1 i = 1#1), 8 ∣ (k0_mult11 v222).toNat := fun i v222 k0_hw11 k0_h1 => k0_hw11.1 k0_h1
theorem k0_off21_inb : ∀ (i : grid0.Coords) (v222 : BitVec 32) (k0_hw11 : k0_chk11 i v222), ∀ (k0_h1 : k0_cond1 i = 1#1), ∀ a, (k0_off21 v222) a + S8x128.size a ≤ S65536x128.size a := fun i v222 k0_hw11 k0_h1 => k0_hw11.2.1 k0_h1
theorem k0_off22_inb : ∀ (i : grid0.Coords) (v222 : BitVec 32) (k0_hw11 : k0_chk11 i v222), ∀ (k0_h1 : k0_cond1 i = 1#1), ∀ a, (k0_off22 v222) a + S1x128.size a ≤ S8192x128.size a := fun i v222 k0_hw11 k0_h1 => k0_hw11.2.2 k0_h1

def k0_mult12 (v237 : BitVec 32) : BitVec 32 :=
  let c3_i32_113 : BitVec 32 := 3#32
  let v238 : BitVec 32 := Scalar.shrsi v237 c3_i32_113
  let c8191_i32_114 : BitVec 32 := 8191#32
  let v239 : BitVec 32 := Scalar.andi v238 c8191_i32_114
  let c8_i32_115 : BitVec 32 := 8#32
  let v240 : BitVec 32 := Scalar.muli v239 c8_i32_115
  v240

def k0_off23 (v237 : BitVec 32) : Fin 2 → Nat :=
  let c3_i32_113 : BitVec 32 := 3#32
  let v238 : BitVec 32 := Scalar.shrsi v237 c3_i32_113
  let c8191_i32_114 : BitVec 32 := 8191#32
  let v239 : BitVec 32 := Scalar.andi v238 c8191_i32_114
  let c8_i32_115 : BitVec 32 := 8#32
  let v240 : BitVec 32 := Scalar.muli v239 c8_i32_115
  let v241 : BitVec 32 := v240
  let v242 : Index := Scalar.indexCast v241
  let c0_116 : Index := 0#32
  ![v242.toNat, 0]
def k0_off24 (v237 : BitVec 32) : Fin 2 → Nat :=
  let c3_i32_113 : BitVec 32 := 3#32
  let v238 : BitVec 32 := Scalar.shrsi v237 c3_i32_113
  let c8191_i32_114 : BitVec 32 := 8191#32
  let v239 : BitVec 32 := Scalar.andi v238 c8191_i32_114
  let v247 : Index := Scalar.indexCast v239
  let c0_118 : Index := 0#32
  ![v247.toNat, 0]

def k0_chk12 (i : grid0.Coords) (v237 : BitVec 32) : Prop :=
  (∀ (k0_h1 : k0_cond1 i = 1#1), 8 ∣ (k0_mult12 v237).toNat) ∧
  (∀ (k0_h1 : k0_cond1 i = 1#1), ∀ a, (k0_off23 v237) a + S8x128.size a ≤ S65536x128.size a) ∧
  (∀ (k0_h1 : k0_cond1 i = 1#1), ∀ a, (k0_off24 v237) a + S1x128.size a ≤ S8192x128.size a)
theorem k0_mult12_dvd : ∀ (i : grid0.Coords) (v237 : BitVec 32) (k0_hw12 : k0_chk12 i v237), ∀ (k0_h1 : k0_cond1 i = 1#1), 8 ∣ (k0_mult12 v237).toNat := fun i v237 k0_hw12 k0_h1 => k0_hw12.1 k0_h1
theorem k0_off23_inb : ∀ (i : grid0.Coords) (v237 : BitVec 32) (k0_hw12 : k0_chk12 i v237), ∀ (k0_h1 : k0_cond1 i = 1#1), ∀ a, (k0_off23 v237) a + S8x128.size a ≤ S65536x128.size a := fun i v237 k0_hw12 k0_h1 => k0_hw12.2.1 k0_h1
theorem k0_off24_inb : ∀ (i : grid0.Coords) (v237 : BitVec 32) (k0_hw12 : k0_chk12 i v237), ∀ (k0_h1 : k0_cond1 i = 1#1), ∀ a, (k0_off24 v237) a + S1x128.size a ≤ S8192x128.size a := fun i v237 k0_hw12 k0_h1 => k0_hw12.2.2 k0_h1

def k0_mult13 (v252 : BitVec 32) : BitVec 32 :=
  let c3_i32_121 : BitVec 32 := 3#32
  let v253 : BitVec 32 := Scalar.shrsi v252 c3_i32_121
  let c8191_i32_122 : BitVec 32 := 8191#32
  let v254 : BitVec 32 := Scalar.andi v253 c8191_i32_122
  let c8_i32_123 : BitVec 32 := 8#32
  let v255 : BitVec 32 := Scalar.muli v254 c8_i32_123
  v255

def k0_off25 (v252 : BitVec 32) : Fin 2 → Nat :=
  let c3_i32_121 : BitVec 32 := 3#32
  let v253 : BitVec 32 := Scalar.shrsi v252 c3_i32_121
  let c8191_i32_122 : BitVec 32 := 8191#32
  let v254 : BitVec 32 := Scalar.andi v253 c8191_i32_122
  let c8_i32_123 : BitVec 32 := 8#32
  let v255 : BitVec 32 := Scalar.muli v254 c8_i32_123
  let v256 : BitVec 32 := v255
  let v257 : Index := Scalar.indexCast v256
  let c0_124 : Index := 0#32
  ![v257.toNat, 0]
def k0_off26 (v252 : BitVec 32) : Fin 2 → Nat :=
  let c3_i32_121 : BitVec 32 := 3#32
  let v253 : BitVec 32 := Scalar.shrsi v252 c3_i32_121
  let c8191_i32_122 : BitVec 32 := 8191#32
  let v254 : BitVec 32 := Scalar.andi v253 c8191_i32_122
  let v262 : Index := Scalar.indexCast v254
  let c0_126 : Index := 0#32
  ![v262.toNat, 0]

def k0_chk13 (i : grid0.Coords) (v252 : BitVec 32) : Prop :=
  (∀ (k0_h1 : k0_cond1 i = 1#1), 8 ∣ (k0_mult13 v252).toNat) ∧
  (∀ (k0_h1 : k0_cond1 i = 1#1), ∀ a, (k0_off25 v252) a + S8x128.size a ≤ S65536x128.size a) ∧
  (∀ (k0_h1 : k0_cond1 i = 1#1), ∀ a, (k0_off26 v252) a + S1x128.size a ≤ S8192x128.size a)
theorem k0_mult13_dvd : ∀ (i : grid0.Coords) (v252 : BitVec 32) (k0_hw13 : k0_chk13 i v252), ∀ (k0_h1 : k0_cond1 i = 1#1), 8 ∣ (k0_mult13 v252).toNat := fun i v252 k0_hw13 k0_h1 => k0_hw13.1 k0_h1
theorem k0_off25_inb : ∀ (i : grid0.Coords) (v252 : BitVec 32) (k0_hw13 : k0_chk13 i v252), ∀ (k0_h1 : k0_cond1 i = 1#1), ∀ a, (k0_off25 v252) a + S8x128.size a ≤ S65536x128.size a := fun i v252 k0_hw13 k0_h1 => k0_hw13.2.1 k0_h1
theorem k0_off26_inb : ∀ (i : grid0.Coords) (v252 : BitVec 32) (k0_hw13 : k0_chk13 i v252), ∀ (k0_h1 : k0_cond1 i = 1#1), ∀ a, (k0_off26 v252) a + S1x128.size a ≤ S8192x128.size a := fun i v252 k0_hw13 k0_h1 => k0_hw13.2.2 k0_h1

def k0_mult14 (v267 : BitVec 32) : BitVec 32 :=
  let c3_i32_129 : BitVec 32 := 3#32
  let v268 : BitVec 32 := Scalar.shrsi v267 c3_i32_129
  let c8191_i32_130 : BitVec 32 := 8191#32
  let v269 : BitVec 32 := Scalar.andi v268 c8191_i32_130
  let c8_i32_131 : BitVec 32 := 8#32
  let v270 : BitVec 32 := Scalar.muli v269 c8_i32_131
  v270

def k0_off27 (v267 : BitVec 32) : Fin 2 → Nat :=
  let c3_i32_129 : BitVec 32 := 3#32
  let v268 : BitVec 32 := Scalar.shrsi v267 c3_i32_129
  let c8191_i32_130 : BitVec 32 := 8191#32
  let v269 : BitVec 32 := Scalar.andi v268 c8191_i32_130
  let c8_i32_131 : BitVec 32 := 8#32
  let v270 : BitVec 32 := Scalar.muli v269 c8_i32_131
  let v271 : BitVec 32 := v270
  let v272 : Index := Scalar.indexCast v271
  let c0_132 : Index := 0#32
  ![v272.toNat, 0]
def k0_off28 (v267 : BitVec 32) : Fin 2 → Nat :=
  let c3_i32_129 : BitVec 32 := 3#32
  let v268 : BitVec 32 := Scalar.shrsi v267 c3_i32_129
  let c8191_i32_130 : BitVec 32 := 8191#32
  let v269 : BitVec 32 := Scalar.andi v268 c8191_i32_130
  let v277 : Index := Scalar.indexCast v269
  let c0_134 : Index := 0#32
  ![v277.toNat, 0]

def k0_chk14 (i : grid0.Coords) (v267 : BitVec 32) : Prop :=
  (∀ (k0_h1 : k0_cond1 i = 1#1), 8 ∣ (k0_mult14 v267).toNat) ∧
  (∀ (k0_h1 : k0_cond1 i = 1#1), ∀ a, (k0_off27 v267) a + S8x128.size a ≤ S65536x128.size a) ∧
  (∀ (k0_h1 : k0_cond1 i = 1#1), ∀ a, (k0_off28 v267) a + S1x128.size a ≤ S8192x128.size a)
theorem k0_mult14_dvd : ∀ (i : grid0.Coords) (v267 : BitVec 32) (k0_hw14 : k0_chk14 i v267), ∀ (k0_h1 : k0_cond1 i = 1#1), 8 ∣ (k0_mult14 v267).toNat := fun i v267 k0_hw14 k0_h1 => k0_hw14.1 k0_h1
theorem k0_off27_inb : ∀ (i : grid0.Coords) (v267 : BitVec 32) (k0_hw14 : k0_chk14 i v267), ∀ (k0_h1 : k0_cond1 i = 1#1), ∀ a, (k0_off27 v267) a + S8x128.size a ≤ S65536x128.size a := fun i v267 k0_hw14 k0_h1 => k0_hw14.2.1 k0_h1
theorem k0_off28_inb : ∀ (i : grid0.Coords) (v267 : BitVec 32) (k0_hw14 : k0_chk14 i v267), ∀ (k0_h1 : k0_cond1 i = 1#1), ∀ a, (k0_off28 v267) a + S1x128.size a ≤ S8192x128.size a := fun i v267 k0_hw14 k0_h1 => k0_hw14.2.2 k0_h1

def k0_mult15 (v282 : BitVec 32) : BitVec 32 :=
  let c3_i32_137 : BitVec 32 := 3#32
  let v283 : BitVec 32 := Scalar.shrsi v282 c3_i32_137
  let c8191_i32_138 : BitVec 32 := 8191#32
  let v284 : BitVec 32 := Scalar.andi v283 c8191_i32_138
  let c8_i32_139 : BitVec 32 := 8#32
  let v285 : BitVec 32 := Scalar.muli v284 c8_i32_139
  v285

def k0_off29 (v282 : BitVec 32) : Fin 2 → Nat :=
  let c3_i32_137 : BitVec 32 := 3#32
  let v283 : BitVec 32 := Scalar.shrsi v282 c3_i32_137
  let c8191_i32_138 : BitVec 32 := 8191#32
  let v284 : BitVec 32 := Scalar.andi v283 c8191_i32_138
  let c8_i32_139 : BitVec 32 := 8#32
  let v285 : BitVec 32 := Scalar.muli v284 c8_i32_139
  let v286 : BitVec 32 := v285
  let v287 : Index := Scalar.indexCast v286
  let c0_140 : Index := 0#32
  ![v287.toNat, 0]
def k0_off30 (v282 : BitVec 32) : Fin 2 → Nat :=
  let c3_i32_137 : BitVec 32 := 3#32
  let v283 : BitVec 32 := Scalar.shrsi v282 c3_i32_137
  let c8191_i32_138 : BitVec 32 := 8191#32
  let v284 : BitVec 32 := Scalar.andi v283 c8191_i32_138
  let v292 : Index := Scalar.indexCast v284
  let c0_142 : Index := 0#32
  ![v292.toNat, 0]

def k0_chk15 (i : grid0.Coords) (v282 : BitVec 32) : Prop :=
  (∀ (k0_h1 : k0_cond1 i = 1#1), 8 ∣ (k0_mult15 v282).toNat) ∧
  (∀ (k0_h1 : k0_cond1 i = 1#1), ∀ a, (k0_off29 v282) a + S8x128.size a ≤ S65536x128.size a) ∧
  (∀ (k0_h1 : k0_cond1 i = 1#1), ∀ a, (k0_off30 v282) a + S1x128.size a ≤ S8192x128.size a)
theorem k0_mult15_dvd : ∀ (i : grid0.Coords) (v282 : BitVec 32) (k0_hw15 : k0_chk15 i v282), ∀ (k0_h1 : k0_cond1 i = 1#1), 8 ∣ (k0_mult15 v282).toNat := fun i v282 k0_hw15 k0_h1 => k0_hw15.1 k0_h1
theorem k0_off29_inb : ∀ (i : grid0.Coords) (v282 : BitVec 32) (k0_hw15 : k0_chk15 i v282), ∀ (k0_h1 : k0_cond1 i = 1#1), ∀ a, (k0_off29 v282) a + S8x128.size a ≤ S65536x128.size a := fun i v282 k0_hw15 k0_h1 => k0_hw15.2.1 k0_h1
theorem k0_off30_inb : ∀ (i : grid0.Coords) (v282 : BitVec 32) (k0_hw15 : k0_chk15 i v282), ∀ (k0_h1 : k0_cond1 i = 1#1), ∀ a, (k0_off30 v282) a + S1x128.size a ≤ S8192x128.size a := fun i v282 k0_hw15 k0_h1 => k0_hw15.2.2 k0_h1

def k0_mult16 (v297 : BitVec 32) : BitVec 32 :=
  let c3_i32_145 : BitVec 32 := 3#32
  let v298 : BitVec 32 := Scalar.shrsi v297 c3_i32_145
  let c8191_i32_146 : BitVec 32 := 8191#32
  let v299 : BitVec 32 := Scalar.andi v298 c8191_i32_146
  let c8_i32_147 : BitVec 32 := 8#32
  let v300 : BitVec 32 := Scalar.muli v299 c8_i32_147
  v300

def k0_off31 (v297 : BitVec 32) : Fin 2 → Nat :=
  let c3_i32_145 : BitVec 32 := 3#32
  let v298 : BitVec 32 := Scalar.shrsi v297 c3_i32_145
  let c8191_i32_146 : BitVec 32 := 8191#32
  let v299 : BitVec 32 := Scalar.andi v298 c8191_i32_146
  let c8_i32_147 : BitVec 32 := 8#32
  let v300 : BitVec 32 := Scalar.muli v299 c8_i32_147
  let v301 : BitVec 32 := v300
  let v302 : Index := Scalar.indexCast v301
  let c0_148 : Index := 0#32
  ![v302.toNat, 0]
def k0_off32 (v297 : BitVec 32) : Fin 2 → Nat :=
  let c3_i32_145 : BitVec 32 := 3#32
  let v298 : BitVec 32 := Scalar.shrsi v297 c3_i32_145
  let c8191_i32_146 : BitVec 32 := 8191#32
  let v299 : BitVec 32 := Scalar.andi v298 c8191_i32_146
  let v307 : Index := Scalar.indexCast v299
  let c0_150 : Index := 0#32
  ![v307.toNat, 0]

def k0_chk16 (i : grid0.Coords) (v297 : BitVec 32) : Prop :=
  (∀ (k0_h1 : k0_cond1 i = 1#1), 8 ∣ (k0_mult16 v297).toNat) ∧
  (∀ (k0_h1 : k0_cond1 i = 1#1), ∀ a, (k0_off31 v297) a + S8x128.size a ≤ S65536x128.size a) ∧
  (∀ (k0_h1 : k0_cond1 i = 1#1), ∀ a, (k0_off32 v297) a + S1x128.size a ≤ S8192x128.size a)
theorem k0_mult16_dvd : ∀ (i : grid0.Coords) (v297 : BitVec 32) (k0_hw16 : k0_chk16 i v297), ∀ (k0_h1 : k0_cond1 i = 1#1), 8 ∣ (k0_mult16 v297).toNat := fun i v297 k0_hw16 k0_h1 => k0_hw16.1 k0_h1
theorem k0_off31_inb : ∀ (i : grid0.Coords) (v297 : BitVec 32) (k0_hw16 : k0_chk16 i v297), ∀ (k0_h1 : k0_cond1 i = 1#1), ∀ a, (k0_off31 v297) a + S8x128.size a ≤ S65536x128.size a := fun i v297 k0_hw16 k0_h1 => k0_hw16.2.1 k0_h1
theorem k0_off32_inb : ∀ (i : grid0.Coords) (v297 : BitVec 32) (k0_hw16 : k0_chk16 i v297), ∀ (k0_h1 : k0_cond1 i = 1#1), ∀ a, (k0_off32 v297) a + S1x128.size a ≤ S8192x128.size a := fun i v297 k0_hw16 k0_h1 => k0_hw16.2.2 k0_h1

def k0_mult17 (v312 : BitVec 32) : BitVec 32 :=
  let c3_i32_154 : BitVec 32 := 3#32
  let v313 : BitVec 32 := Scalar.shrsi v312 c3_i32_154
  let c8191_i32_155 : BitVec 32 := 8191#32
  let v314 : BitVec 32 := Scalar.andi v313 c8191_i32_155
  let c8_i32_156 : BitVec 32 := 8#32
  let v315 : BitVec 32 := Scalar.muli v314 c8_i32_156
  v315

def k0_off33 (v312 : BitVec 32) : Fin 2 → Nat :=
  let c3_i32_154 : BitVec 32 := 3#32
  let v313 : BitVec 32 := Scalar.shrsi v312 c3_i32_154
  let c8191_i32_155 : BitVec 32 := 8191#32
  let v314 : BitVec 32 := Scalar.andi v313 c8191_i32_155
  let c8_i32_156 : BitVec 32 := 8#32
  let v315 : BitVec 32 := Scalar.muli v314 c8_i32_156
  let v316 : BitVec 32 := v315
  let v317 : Index := Scalar.indexCast v316
  let c0_157 : Index := 0#32
  ![v317.toNat, 0]
def k0_off34 (v312 : BitVec 32) : Fin 2 → Nat :=
  let c3_i32_154 : BitVec 32 := 3#32
  let v313 : BitVec 32 := Scalar.shrsi v312 c3_i32_154
  let c8191_i32_155 : BitVec 32 := 8191#32
  let v314 : BitVec 32 := Scalar.andi v313 c8191_i32_155
  let v322 : Index := Scalar.indexCast v314
  let c0_159 : Index := 0#32
  ![v322.toNat, 0]

def k0_chk17 (i : grid0.Coords) (v312 : BitVec 32) : Prop :=
  (∀ (k0_h1 : k0_cond1 i = 1#1), 8 ∣ (k0_mult17 v312).toNat) ∧
  (∀ (k0_h1 : k0_cond1 i = 1#1), ∀ a, (k0_off33 v312) a + S8x128.size a ≤ S65536x128.size a) ∧
  (∀ (k0_h1 : k0_cond1 i = 1#1), ∀ a, (k0_off34 v312) a + S1x128.size a ≤ S8192x128.size a)
theorem k0_mult17_dvd : ∀ (i : grid0.Coords) (v312 : BitVec 32) (k0_hw17 : k0_chk17 i v312), ∀ (k0_h1 : k0_cond1 i = 1#1), 8 ∣ (k0_mult17 v312).toNat := fun i v312 k0_hw17 k0_h1 => k0_hw17.1 k0_h1
theorem k0_off33_inb : ∀ (i : grid0.Coords) (v312 : BitVec 32) (k0_hw17 : k0_chk17 i v312), ∀ (k0_h1 : k0_cond1 i = 1#1), ∀ a, (k0_off33 v312) a + S8x128.size a ≤ S65536x128.size a := fun i v312 k0_hw17 k0_h1 => k0_hw17.2.1 k0_h1
theorem k0_off34_inb : ∀ (i : grid0.Coords) (v312 : BitVec 32) (k0_hw17 : k0_chk17 i v312), ∀ (k0_h1 : k0_cond1 i = 1#1), ∀ a, (k0_off34 v312) a + S1x128.size a ≤ S8192x128.size a := fun i v312 k0_hw17 k0_h1 => k0_hw17.2.2 k0_h1

def k0_mult18 (v327 : BitVec 32) : BitVec 32 :=
  let c3_i32_162 : BitVec 32 := 3#32
  let v328 : BitVec 32 := Scalar.shrsi v327 c3_i32_162
  let c8191_i32_163 : BitVec 32 := 8191#32
  let v329 : BitVec 32 := Scalar.andi v328 c8191_i32_163
  let c8_i32_164 : BitVec 32 := 8#32
  let v330 : BitVec 32 := Scalar.muli v329 c8_i32_164
  v330

def k0_off35 (v327 : BitVec 32) : Fin 2 → Nat :=
  let c3_i32_162 : BitVec 32 := 3#32
  let v328 : BitVec 32 := Scalar.shrsi v327 c3_i32_162
  let c8191_i32_163 : BitVec 32 := 8191#32
  let v329 : BitVec 32 := Scalar.andi v328 c8191_i32_163
  let c8_i32_164 : BitVec 32 := 8#32
  let v330 : BitVec 32 := Scalar.muli v329 c8_i32_164
  let v331 : BitVec 32 := v330
  let v332 : Index := Scalar.indexCast v331
  let c0_165 : Index := 0#32
  ![v332.toNat, 0]
def k0_off36 (v327 : BitVec 32) : Fin 2 → Nat :=
  let c3_i32_162 : BitVec 32 := 3#32
  let v328 : BitVec 32 := Scalar.shrsi v327 c3_i32_162
  let c8191_i32_163 : BitVec 32 := 8191#32
  let v329 : BitVec 32 := Scalar.andi v328 c8191_i32_163
  let v337 : Index := Scalar.indexCast v329
  let c0_167 : Index := 0#32
  ![v337.toNat, 0]

def k0_chk18 (i : grid0.Coords) (v327 : BitVec 32) : Prop :=
  (∀ (k0_h1 : k0_cond1 i = 1#1), 8 ∣ (k0_mult18 v327).toNat) ∧
  (∀ (k0_h1 : k0_cond1 i = 1#1), ∀ a, (k0_off35 v327) a + S8x128.size a ≤ S65536x128.size a) ∧
  (∀ (k0_h1 : k0_cond1 i = 1#1), ∀ a, (k0_off36 v327) a + S1x128.size a ≤ S8192x128.size a)
theorem k0_mult18_dvd : ∀ (i : grid0.Coords) (v327 : BitVec 32) (k0_hw18 : k0_chk18 i v327), ∀ (k0_h1 : k0_cond1 i = 1#1), 8 ∣ (k0_mult18 v327).toNat := fun i v327 k0_hw18 k0_h1 => k0_hw18.1 k0_h1
theorem k0_off35_inb : ∀ (i : grid0.Coords) (v327 : BitVec 32) (k0_hw18 : k0_chk18 i v327), ∀ (k0_h1 : k0_cond1 i = 1#1), ∀ a, (k0_off35 v327) a + S8x128.size a ≤ S65536x128.size a := fun i v327 k0_hw18 k0_h1 => k0_hw18.2.1 k0_h1
theorem k0_off36_inb : ∀ (i : grid0.Coords) (v327 : BitVec 32) (k0_hw18 : k0_chk18 i v327), ∀ (k0_h1 : k0_cond1 i = 1#1), ∀ a, (k0_off36 v327) a + S1x128.size a ≤ S8192x128.size a := fun i v327 k0_hw18 k0_h1 => k0_hw18.2.2 k0_h1

def k0_mult19 (v342 : BitVec 32) : BitVec 32 :=
  let c3_i32_170 : BitVec 32 := 3#32
  let v343 : BitVec 32 := Scalar.shrsi v342 c3_i32_170
  let c8191_i32_171 : BitVec 32 := 8191#32
  let v344 : BitVec 32 := Scalar.andi v343 c8191_i32_171
  let c8_i32_172 : BitVec 32 := 8#32
  let v345 : BitVec 32 := Scalar.muli v344 c8_i32_172
  v345

def k0_off37 (v342 : BitVec 32) : Fin 2 → Nat :=
  let c3_i32_170 : BitVec 32 := 3#32
  let v343 : BitVec 32 := Scalar.shrsi v342 c3_i32_170
  let c8191_i32_171 : BitVec 32 := 8191#32
  let v344 : BitVec 32 := Scalar.andi v343 c8191_i32_171
  let c8_i32_172 : BitVec 32 := 8#32
  let v345 : BitVec 32 := Scalar.muli v344 c8_i32_172
  let v346 : BitVec 32 := v345
  let v347 : Index := Scalar.indexCast v346
  let c0_173 : Index := 0#32
  ![v347.toNat, 0]
def k0_off38 (v342 : BitVec 32) : Fin 2 → Nat :=
  let c3_i32_170 : BitVec 32 := 3#32
  let v343 : BitVec 32 := Scalar.shrsi v342 c3_i32_170
  let c8191_i32_171 : BitVec 32 := 8191#32
  let v344 : BitVec 32 := Scalar.andi v343 c8191_i32_171
  let v352 : Index := Scalar.indexCast v344
  let c0_175 : Index := 0#32
  ![v352.toNat, 0]

def k0_chk19 (i : grid0.Coords) (v342 : BitVec 32) : Prop :=
  (∀ (k0_h1 : k0_cond1 i = 1#1), 8 ∣ (k0_mult19 v342).toNat) ∧
  (∀ (k0_h1 : k0_cond1 i = 1#1), ∀ a, (k0_off37 v342) a + S8x128.size a ≤ S65536x128.size a) ∧
  (∀ (k0_h1 : k0_cond1 i = 1#1), ∀ a, (k0_off38 v342) a + S1x128.size a ≤ S8192x128.size a)
theorem k0_mult19_dvd : ∀ (i : grid0.Coords) (v342 : BitVec 32) (k0_hw19 : k0_chk19 i v342), ∀ (k0_h1 : k0_cond1 i = 1#1), 8 ∣ (k0_mult19 v342).toNat := fun i v342 k0_hw19 k0_h1 => k0_hw19.1 k0_h1
theorem k0_off37_inb : ∀ (i : grid0.Coords) (v342 : BitVec 32) (k0_hw19 : k0_chk19 i v342), ∀ (k0_h1 : k0_cond1 i = 1#1), ∀ a, (k0_off37 v342) a + S8x128.size a ≤ S65536x128.size a := fun i v342 k0_hw19 k0_h1 => k0_hw19.2.1 k0_h1
theorem k0_off38_inb : ∀ (i : grid0.Coords) (v342 : BitVec 32) (k0_hw19 : k0_chk19 i v342), ∀ (k0_h1 : k0_cond1 i = 1#1), ∀ a, (k0_off38 v342) a + S1x128.size a ≤ S8192x128.size a := fun i v342 k0_hw19 k0_h1 => k0_hw19.2.2 k0_h1

def k0_mult20 (v357 : BitVec 32) : BitVec 32 :=
  let c3_i32_178 : BitVec 32 := 3#32
  let v358 : BitVec 32 := Scalar.shrsi v357 c3_i32_178
  let c8191_i32_179 : BitVec 32 := 8191#32
  let v359 : BitVec 32 := Scalar.andi v358 c8191_i32_179
  let c8_i32_180 : BitVec 32 := 8#32
  let v360 : BitVec 32 := Scalar.muli v359 c8_i32_180
  v360

def k0_off39 (v357 : BitVec 32) : Fin 2 → Nat :=
  let c3_i32_178 : BitVec 32 := 3#32
  let v358 : BitVec 32 := Scalar.shrsi v357 c3_i32_178
  let c8191_i32_179 : BitVec 32 := 8191#32
  let v359 : BitVec 32 := Scalar.andi v358 c8191_i32_179
  let c8_i32_180 : BitVec 32 := 8#32
  let v360 : BitVec 32 := Scalar.muli v359 c8_i32_180
  let v361 : BitVec 32 := v360
  let v362 : Index := Scalar.indexCast v361
  let c0_181 : Index := 0#32
  ![v362.toNat, 0]
def k0_off40 (v357 : BitVec 32) : Fin 2 → Nat :=
  let c3_i32_178 : BitVec 32 := 3#32
  let v358 : BitVec 32 := Scalar.shrsi v357 c3_i32_178
  let c8191_i32_179 : BitVec 32 := 8191#32
  let v359 : BitVec 32 := Scalar.andi v358 c8191_i32_179
  let v367 : Index := Scalar.indexCast v359
  let c0_183 : Index := 0#32
  ![v367.toNat, 0]

def k0_chk20 (i : grid0.Coords) (v357 : BitVec 32) : Prop :=
  (∀ (k0_h1 : k0_cond1 i = 1#1), 8 ∣ (k0_mult20 v357).toNat) ∧
  (∀ (k0_h1 : k0_cond1 i = 1#1), ∀ a, (k0_off39 v357) a + S8x128.size a ≤ S65536x128.size a) ∧
  (∀ (k0_h1 : k0_cond1 i = 1#1), ∀ a, (k0_off40 v357) a + S1x128.size a ≤ S8192x128.size a)
theorem k0_mult20_dvd : ∀ (i : grid0.Coords) (v357 : BitVec 32) (k0_hw20 : k0_chk20 i v357), ∀ (k0_h1 : k0_cond1 i = 1#1), 8 ∣ (k0_mult20 v357).toNat := fun i v357 k0_hw20 k0_h1 => k0_hw20.1 k0_h1
theorem k0_off39_inb : ∀ (i : grid0.Coords) (v357 : BitVec 32) (k0_hw20 : k0_chk20 i v357), ∀ (k0_h1 : k0_cond1 i = 1#1), ∀ a, (k0_off39 v357) a + S8x128.size a ≤ S65536x128.size a := fun i v357 k0_hw20 k0_h1 => k0_hw20.2.1 k0_h1
theorem k0_off40_inb : ∀ (i : grid0.Coords) (v357 : BitVec 32) (k0_hw20 : k0_chk20 i v357), ∀ (k0_h1 : k0_cond1 i = 1#1), ∀ a, (k0_off40 v357) a + S1x128.size a ≤ S8192x128.size a := fun i v357 k0_hw20 k0_h1 => k0_hw20.2.2 k0_h1

def k0_mult21 (v372 : BitVec 32) : BitVec 32 :=
  let c3_i32_186 : BitVec 32 := 3#32
  let v373 : BitVec 32 := Scalar.shrsi v372 c3_i32_186
  let c8191_i32_187 : BitVec 32 := 8191#32
  let v374 : BitVec 32 := Scalar.andi v373 c8191_i32_187
  let c8_i32_188 : BitVec 32 := 8#32
  let v375 : BitVec 32 := Scalar.muli v374 c8_i32_188
  v375

def k0_off41 (v372 : BitVec 32) : Fin 2 → Nat :=
  let c3_i32_186 : BitVec 32 := 3#32
  let v373 : BitVec 32 := Scalar.shrsi v372 c3_i32_186
  let c8191_i32_187 : BitVec 32 := 8191#32
  let v374 : BitVec 32 := Scalar.andi v373 c8191_i32_187
  let c8_i32_188 : BitVec 32 := 8#32
  let v375 : BitVec 32 := Scalar.muli v374 c8_i32_188
  let v376 : BitVec 32 := v375
  let v377 : Index := Scalar.indexCast v376
  let c0_189 : Index := 0#32
  ![v377.toNat, 0]
def k0_off42 (v372 : BitVec 32) : Fin 2 → Nat :=
  let c3_i32_186 : BitVec 32 := 3#32
  let v373 : BitVec 32 := Scalar.shrsi v372 c3_i32_186
  let c8191_i32_187 : BitVec 32 := 8191#32
  let v374 : BitVec 32 := Scalar.andi v373 c8191_i32_187
  let v382 : Index := Scalar.indexCast v374
  let c0_191 : Index := 0#32
  ![v382.toNat, 0]

def k0_chk21 (i : grid0.Coords) (v372 : BitVec 32) : Prop :=
  (∀ (k0_h1 : k0_cond1 i = 1#1), 8 ∣ (k0_mult21 v372).toNat) ∧
  (∀ (k0_h1 : k0_cond1 i = 1#1), ∀ a, (k0_off41 v372) a + S8x128.size a ≤ S65536x128.size a) ∧
  (∀ (k0_h1 : k0_cond1 i = 1#1), ∀ a, (k0_off42 v372) a + S1x128.size a ≤ S8192x128.size a)
theorem k0_mult21_dvd : ∀ (i : grid0.Coords) (v372 : BitVec 32) (k0_hw21 : k0_chk21 i v372), ∀ (k0_h1 : k0_cond1 i = 1#1), 8 ∣ (k0_mult21 v372).toNat := fun i v372 k0_hw21 k0_h1 => k0_hw21.1 k0_h1
theorem k0_off41_inb : ∀ (i : grid0.Coords) (v372 : BitVec 32) (k0_hw21 : k0_chk21 i v372), ∀ (k0_h1 : k0_cond1 i = 1#1), ∀ a, (k0_off41 v372) a + S8x128.size a ≤ S65536x128.size a := fun i v372 k0_hw21 k0_h1 => k0_hw21.2.1 k0_h1
theorem k0_off42_inb : ∀ (i : grid0.Coords) (v372 : BitVec 32) (k0_hw21 : k0_chk21 i v372), ∀ (k0_h1 : k0_cond1 i = 1#1), ∀ a, (k0_off42 v372) a + S1x128.size a ≤ S8192x128.size a := fun i v372 k0_hw21 k0_h1 => k0_hw21.2.2 k0_h1

def k0_mult22 (v387 : BitVec 32) : BitVec 32 :=
  let c3_i32_194 : BitVec 32 := 3#32
  let v388 : BitVec 32 := Scalar.shrsi v387 c3_i32_194
  let c8191_i32_195 : BitVec 32 := 8191#32
  let v389 : BitVec 32 := Scalar.andi v388 c8191_i32_195
  let c8_i32_196 : BitVec 32 := 8#32
  let v390 : BitVec 32 := Scalar.muli v389 c8_i32_196
  v390

def k0_off43 (v387 : BitVec 32) : Fin 2 → Nat :=
  let c3_i32_194 : BitVec 32 := 3#32
  let v388 : BitVec 32 := Scalar.shrsi v387 c3_i32_194
  let c8191_i32_195 : BitVec 32 := 8191#32
  let v389 : BitVec 32 := Scalar.andi v388 c8191_i32_195
  let c8_i32_196 : BitVec 32 := 8#32
  let v390 : BitVec 32 := Scalar.muli v389 c8_i32_196
  let v391 : BitVec 32 := v390
  let v392 : Index := Scalar.indexCast v391
  let c0_197 : Index := 0#32
  ![v392.toNat, 0]
def k0_off44 (v387 : BitVec 32) : Fin 2 → Nat :=
  let c3_i32_194 : BitVec 32 := 3#32
  let v388 : BitVec 32 := Scalar.shrsi v387 c3_i32_194
  let c8191_i32_195 : BitVec 32 := 8191#32
  let v389 : BitVec 32 := Scalar.andi v388 c8191_i32_195
  let v397 : Index := Scalar.indexCast v389
  let c0_199 : Index := 0#32
  ![v397.toNat, 0]

def k0_chk22 (i : grid0.Coords) (v387 : BitVec 32) : Prop :=
  (∀ (k0_h1 : k0_cond1 i = 1#1), 8 ∣ (k0_mult22 v387).toNat) ∧
  (∀ (k0_h1 : k0_cond1 i = 1#1), ∀ a, (k0_off43 v387) a + S8x128.size a ≤ S65536x128.size a) ∧
  (∀ (k0_h1 : k0_cond1 i = 1#1), ∀ a, (k0_off44 v387) a + S1x128.size a ≤ S8192x128.size a)
theorem k0_mult22_dvd : ∀ (i : grid0.Coords) (v387 : BitVec 32) (k0_hw22 : k0_chk22 i v387), ∀ (k0_h1 : k0_cond1 i = 1#1), 8 ∣ (k0_mult22 v387).toNat := fun i v387 k0_hw22 k0_h1 => k0_hw22.1 k0_h1
theorem k0_off43_inb : ∀ (i : grid0.Coords) (v387 : BitVec 32) (k0_hw22 : k0_chk22 i v387), ∀ (k0_h1 : k0_cond1 i = 1#1), ∀ a, (k0_off43 v387) a + S8x128.size a ≤ S65536x128.size a := fun i v387 k0_hw22 k0_h1 => k0_hw22.2.1 k0_h1
theorem k0_off44_inb : ∀ (i : grid0.Coords) (v387 : BitVec 32) (k0_hw22 : k0_chk22 i v387), ∀ (k0_h1 : k0_cond1 i = 1#1), ∀ a, (k0_off44 v387) a + S1x128.size a ≤ S8192x128.size a := fun i v387 k0_hw22 k0_h1 => k0_hw22.2.2 k0_h1

def k0_mult23 (v402 : BitVec 32) : BitVec 32 :=
  let c3_i32_202 : BitVec 32 := 3#32
  let v403 : BitVec 32 := Scalar.shrsi v402 c3_i32_202
  let c8191_i32_203 : BitVec 32 := 8191#32
  let v404 : BitVec 32 := Scalar.andi v403 c8191_i32_203
  let c8_i32_204 : BitVec 32 := 8#32
  let v405 : BitVec 32 := Scalar.muli v404 c8_i32_204
  v405

def k0_off45 (v402 : BitVec 32) : Fin 2 → Nat :=
  let c3_i32_202 : BitVec 32 := 3#32
  let v403 : BitVec 32 := Scalar.shrsi v402 c3_i32_202
  let c8191_i32_203 : BitVec 32 := 8191#32
  let v404 : BitVec 32 := Scalar.andi v403 c8191_i32_203
  let c8_i32_204 : BitVec 32 := 8#32
  let v405 : BitVec 32 := Scalar.muli v404 c8_i32_204
  let v406 : BitVec 32 := v405
  let v407 : Index := Scalar.indexCast v406
  let c0_205 : Index := 0#32
  ![v407.toNat, 0]
def k0_off46 (v402 : BitVec 32) : Fin 2 → Nat :=
  let c3_i32_202 : BitVec 32 := 3#32
  let v403 : BitVec 32 := Scalar.shrsi v402 c3_i32_202
  let c8191_i32_203 : BitVec 32 := 8191#32
  let v404 : BitVec 32 := Scalar.andi v403 c8191_i32_203
  let v412 : Index := Scalar.indexCast v404
  let c0_207 : Index := 0#32
  ![v412.toNat, 0]

def k0_chk23 (i : grid0.Coords) (v402 : BitVec 32) : Prop :=
  (∀ (k0_h1 : k0_cond1 i = 1#1), 8 ∣ (k0_mult23 v402).toNat) ∧
  (∀ (k0_h1 : k0_cond1 i = 1#1), ∀ a, (k0_off45 v402) a + S8x128.size a ≤ S65536x128.size a) ∧
  (∀ (k0_h1 : k0_cond1 i = 1#1), ∀ a, (k0_off46 v402) a + S1x128.size a ≤ S8192x128.size a)
theorem k0_mult23_dvd : ∀ (i : grid0.Coords) (v402 : BitVec 32) (k0_hw23 : k0_chk23 i v402), ∀ (k0_h1 : k0_cond1 i = 1#1), 8 ∣ (k0_mult23 v402).toNat := fun i v402 k0_hw23 k0_h1 => k0_hw23.1 k0_h1
theorem k0_off45_inb : ∀ (i : grid0.Coords) (v402 : BitVec 32) (k0_hw23 : k0_chk23 i v402), ∀ (k0_h1 : k0_cond1 i = 1#1), ∀ a, (k0_off45 v402) a + S8x128.size a ≤ S65536x128.size a := fun i v402 k0_hw23 k0_h1 => k0_hw23.2.1 k0_h1
theorem k0_off46_inb : ∀ (i : grid0.Coords) (v402 : BitVec 32) (k0_hw23 : k0_chk23 i v402), ∀ (k0_h1 : k0_cond1 i = 1#1), ∀ a, (k0_off46 v402) a + S1x128.size a ≤ S8192x128.size a := fun i v402 k0_hw23 k0_h1 => k0_hw23.2.2 k0_h1

def k0_mult24 (v417 : BitVec 32) : BitVec 32 :=
  let c3_i32_210 : BitVec 32 := 3#32
  let v418 : BitVec 32 := Scalar.shrsi v417 c3_i32_210
  let c8191_i32_211 : BitVec 32 := 8191#32
  let v419 : BitVec 32 := Scalar.andi v418 c8191_i32_211
  let c8_i32_212 : BitVec 32 := 8#32
  let v420 : BitVec 32 := Scalar.muli v419 c8_i32_212
  v420

def k0_off47 (v417 : BitVec 32) : Fin 2 → Nat :=
  let c3_i32_210 : BitVec 32 := 3#32
  let v418 : BitVec 32 := Scalar.shrsi v417 c3_i32_210
  let c8191_i32_211 : BitVec 32 := 8191#32
  let v419 : BitVec 32 := Scalar.andi v418 c8191_i32_211
  let c8_i32_212 : BitVec 32 := 8#32
  let v420 : BitVec 32 := Scalar.muli v419 c8_i32_212
  let v421 : BitVec 32 := v420
  let v422 : Index := Scalar.indexCast v421
  let c0_213 : Index := 0#32
  ![v422.toNat, 0]
def k0_off48 (v417 : BitVec 32) : Fin 2 → Nat :=
  let c3_i32_210 : BitVec 32 := 3#32
  let v418 : BitVec 32 := Scalar.shrsi v417 c3_i32_210
  let c8191_i32_211 : BitVec 32 := 8191#32
  let v419 : BitVec 32 := Scalar.andi v418 c8191_i32_211
  let v427 : Index := Scalar.indexCast v419
  let c0_215 : Index := 0#32
  ![v427.toNat, 0]

def k0_chk24 (i : grid0.Coords) (v417 : BitVec 32) : Prop :=
  (∀ (k0_h1 : k0_cond1 i = 1#1), 8 ∣ (k0_mult24 v417).toNat) ∧
  (∀ (k0_h1 : k0_cond1 i = 1#1), ∀ a, (k0_off47 v417) a + S8x128.size a ≤ S65536x128.size a) ∧
  (∀ (k0_h1 : k0_cond1 i = 1#1), ∀ a, (k0_off48 v417) a + S1x128.size a ≤ S8192x128.size a)
theorem k0_mult24_dvd : ∀ (i : grid0.Coords) (v417 : BitVec 32) (k0_hw24 : k0_chk24 i v417), ∀ (k0_h1 : k0_cond1 i = 1#1), 8 ∣ (k0_mult24 v417).toNat := fun i v417 k0_hw24 k0_h1 => k0_hw24.1 k0_h1
theorem k0_off47_inb : ∀ (i : grid0.Coords) (v417 : BitVec 32) (k0_hw24 : k0_chk24 i v417), ∀ (k0_h1 : k0_cond1 i = 1#1), ∀ a, (k0_off47 v417) a + S8x128.size a ≤ S65536x128.size a := fun i v417 k0_hw24 k0_h1 => k0_hw24.2.1 k0_h1
theorem k0_off48_inb : ∀ (i : grid0.Coords) (v417 : BitVec 32) (k0_hw24 : k0_chk24 i v417), ∀ (k0_h1 : k0_cond1 i = 1#1), ∀ a, (k0_off48 v417) a + S1x128.size a ≤ S8192x128.size a := fun i v417 k0_hw24 k0_h1 => k0_hw24.2.2 k0_h1

def k0_mult25 (v432 : BitVec 32) : BitVec 32 :=
  let c3_i32_219 : BitVec 32 := 3#32
  let v433 : BitVec 32 := Scalar.shrsi v432 c3_i32_219
  let c8191_i32_220 : BitVec 32 := 8191#32
  let v434 : BitVec 32 := Scalar.andi v433 c8191_i32_220
  let c8_i32_221 : BitVec 32 := 8#32
  let v435 : BitVec 32 := Scalar.muli v434 c8_i32_221
  v435

def k0_off49 (v432 : BitVec 32) : Fin 2 → Nat :=
  let c3_i32_219 : BitVec 32 := 3#32
  let v433 : BitVec 32 := Scalar.shrsi v432 c3_i32_219
  let c8191_i32_220 : BitVec 32 := 8191#32
  let v434 : BitVec 32 := Scalar.andi v433 c8191_i32_220
  let c8_i32_221 : BitVec 32 := 8#32
  let v435 : BitVec 32 := Scalar.muli v434 c8_i32_221
  let v436 : BitVec 32 := v435
  let v437 : Index := Scalar.indexCast v436
  let c0_222 : Index := 0#32
  ![v437.toNat, 0]
def k0_off50 (v432 : BitVec 32) : Fin 2 → Nat :=
  let c3_i32_219 : BitVec 32 := 3#32
  let v433 : BitVec 32 := Scalar.shrsi v432 c3_i32_219
  let c8191_i32_220 : BitVec 32 := 8191#32
  let v434 : BitVec 32 := Scalar.andi v433 c8191_i32_220
  let v442 : Index := Scalar.indexCast v434
  let c0_224 : Index := 0#32
  ![v442.toNat, 0]

def k0_chk25 (i : grid0.Coords) (v432 : BitVec 32) : Prop :=
  (∀ (k0_h1 : k0_cond1 i = 1#1), 8 ∣ (k0_mult25 v432).toNat) ∧
  (∀ (k0_h1 : k0_cond1 i = 1#1), ∀ a, (k0_off49 v432) a + S8x128.size a ≤ S65536x128.size a) ∧
  (∀ (k0_h1 : k0_cond1 i = 1#1), ∀ a, (k0_off50 v432) a + S1x128.size a ≤ S8192x128.size a)
theorem k0_mult25_dvd : ∀ (i : grid0.Coords) (v432 : BitVec 32) (k0_hw25 : k0_chk25 i v432), ∀ (k0_h1 : k0_cond1 i = 1#1), 8 ∣ (k0_mult25 v432).toNat := fun i v432 k0_hw25 k0_h1 => k0_hw25.1 k0_h1
theorem k0_off49_inb : ∀ (i : grid0.Coords) (v432 : BitVec 32) (k0_hw25 : k0_chk25 i v432), ∀ (k0_h1 : k0_cond1 i = 1#1), ∀ a, (k0_off49 v432) a + S8x128.size a ≤ S65536x128.size a := fun i v432 k0_hw25 k0_h1 => k0_hw25.2.1 k0_h1
theorem k0_off50_inb : ∀ (i : grid0.Coords) (v432 : BitVec 32) (k0_hw25 : k0_chk25 i v432), ∀ (k0_h1 : k0_cond1 i = 1#1), ∀ a, (k0_off50 v432) a + S1x128.size a ≤ S8192x128.size a := fun i v432 k0_hw25 k0_h1 => k0_hw25.2.2 k0_h1

def k0_mult26 (v447 : BitVec 32) : BitVec 32 :=
  let c3_i32_227 : BitVec 32 := 3#32
  let v448 : BitVec 32 := Scalar.shrsi v447 c3_i32_227
  let c8191_i32_228 : BitVec 32 := 8191#32
  let v449 : BitVec 32 := Scalar.andi v448 c8191_i32_228
  let c8_i32_229 : BitVec 32 := 8#32
  let v450 : BitVec 32 := Scalar.muli v449 c8_i32_229
  v450

def k0_off51 (v447 : BitVec 32) : Fin 2 → Nat :=
  let c3_i32_227 : BitVec 32 := 3#32
  let v448 : BitVec 32 := Scalar.shrsi v447 c3_i32_227
  let c8191_i32_228 : BitVec 32 := 8191#32
  let v449 : BitVec 32 := Scalar.andi v448 c8191_i32_228
  let c8_i32_229 : BitVec 32 := 8#32
  let v450 : BitVec 32 := Scalar.muli v449 c8_i32_229
  let v451 : BitVec 32 := v450
  let v452 : Index := Scalar.indexCast v451
  let c0_230 : Index := 0#32
  ![v452.toNat, 0]
def k0_off52 (v447 : BitVec 32) : Fin 2 → Nat :=
  let c3_i32_227 : BitVec 32 := 3#32
  let v448 : BitVec 32 := Scalar.shrsi v447 c3_i32_227
  let c8191_i32_228 : BitVec 32 := 8191#32
  let v449 : BitVec 32 := Scalar.andi v448 c8191_i32_228
  let v457 : Index := Scalar.indexCast v449
  let c0_232 : Index := 0#32
  ![v457.toNat, 0]

def k0_chk26 (i : grid0.Coords) (v447 : BitVec 32) : Prop :=
  (∀ (k0_h1 : k0_cond1 i = 1#1), 8 ∣ (k0_mult26 v447).toNat) ∧
  (∀ (k0_h1 : k0_cond1 i = 1#1), ∀ a, (k0_off51 v447) a + S8x128.size a ≤ S65536x128.size a) ∧
  (∀ (k0_h1 : k0_cond1 i = 1#1), ∀ a, (k0_off52 v447) a + S1x128.size a ≤ S8192x128.size a)
theorem k0_mult26_dvd : ∀ (i : grid0.Coords) (v447 : BitVec 32) (k0_hw26 : k0_chk26 i v447), ∀ (k0_h1 : k0_cond1 i = 1#1), 8 ∣ (k0_mult26 v447).toNat := fun i v447 k0_hw26 k0_h1 => k0_hw26.1 k0_h1
theorem k0_off51_inb : ∀ (i : grid0.Coords) (v447 : BitVec 32) (k0_hw26 : k0_chk26 i v447), ∀ (k0_h1 : k0_cond1 i = 1#1), ∀ a, (k0_off51 v447) a + S8x128.size a ≤ S65536x128.size a := fun i v447 k0_hw26 k0_h1 => k0_hw26.2.1 k0_h1
theorem k0_off52_inb : ∀ (i : grid0.Coords) (v447 : BitVec 32) (k0_hw26 : k0_chk26 i v447), ∀ (k0_h1 : k0_cond1 i = 1#1), ∀ a, (k0_off52 v447) a + S1x128.size a ≤ S8192x128.size a := fun i v447 k0_hw26 k0_h1 => k0_hw26.2.2 k0_h1

def k0_mult27 (v462 : BitVec 32) : BitVec 32 :=
  let c3_i32_235 : BitVec 32 := 3#32
  let v463 : BitVec 32 := Scalar.shrsi v462 c3_i32_235
  let c8191_i32_236 : BitVec 32 := 8191#32
  let v464 : BitVec 32 := Scalar.andi v463 c8191_i32_236
  let c8_i32_237 : BitVec 32 := 8#32
  let v465 : BitVec 32 := Scalar.muli v464 c8_i32_237
  v465

def k0_off53 (v462 : BitVec 32) : Fin 2 → Nat :=
  let c3_i32_235 : BitVec 32 := 3#32
  let v463 : BitVec 32 := Scalar.shrsi v462 c3_i32_235
  let c8191_i32_236 : BitVec 32 := 8191#32
  let v464 : BitVec 32 := Scalar.andi v463 c8191_i32_236
  let c8_i32_237 : BitVec 32 := 8#32
  let v465 : BitVec 32 := Scalar.muli v464 c8_i32_237
  let v466 : BitVec 32 := v465
  let v467 : Index := Scalar.indexCast v466
  let c0_238 : Index := 0#32
  ![v467.toNat, 0]
def k0_off54 (v462 : BitVec 32) : Fin 2 → Nat :=
  let c3_i32_235 : BitVec 32 := 3#32
  let v463 : BitVec 32 := Scalar.shrsi v462 c3_i32_235
  let c8191_i32_236 : BitVec 32 := 8191#32
  let v464 : BitVec 32 := Scalar.andi v463 c8191_i32_236
  let v472 : Index := Scalar.indexCast v464
  let c0_240 : Index := 0#32
  ![v472.toNat, 0]

def k0_chk27 (i : grid0.Coords) (v462 : BitVec 32) : Prop :=
  (∀ (k0_h1 : k0_cond1 i = 1#1), 8 ∣ (k0_mult27 v462).toNat) ∧
  (∀ (k0_h1 : k0_cond1 i = 1#1), ∀ a, (k0_off53 v462) a + S8x128.size a ≤ S65536x128.size a) ∧
  (∀ (k0_h1 : k0_cond1 i = 1#1), ∀ a, (k0_off54 v462) a + S1x128.size a ≤ S8192x128.size a)
theorem k0_mult27_dvd : ∀ (i : grid0.Coords) (v462 : BitVec 32) (k0_hw27 : k0_chk27 i v462), ∀ (k0_h1 : k0_cond1 i = 1#1), 8 ∣ (k0_mult27 v462).toNat := fun i v462 k0_hw27 k0_h1 => k0_hw27.1 k0_h1
theorem k0_off53_inb : ∀ (i : grid0.Coords) (v462 : BitVec 32) (k0_hw27 : k0_chk27 i v462), ∀ (k0_h1 : k0_cond1 i = 1#1), ∀ a, (k0_off53 v462) a + S8x128.size a ≤ S65536x128.size a := fun i v462 k0_hw27 k0_h1 => k0_hw27.2.1 k0_h1
theorem k0_off54_inb : ∀ (i : grid0.Coords) (v462 : BitVec 32) (k0_hw27 : k0_chk27 i v462), ∀ (k0_h1 : k0_cond1 i = 1#1), ∀ a, (k0_off54 v462) a + S1x128.size a ≤ S8192x128.size a := fun i v462 k0_hw27 k0_h1 => k0_hw27.2.2 k0_h1

def k0_mult28 (v477 : BitVec 32) : BitVec 32 :=
  let c3_i32_243 : BitVec 32 := 3#32
  let v478 : BitVec 32 := Scalar.shrsi v477 c3_i32_243
  let c8191_i32_244 : BitVec 32 := 8191#32
  let v479 : BitVec 32 := Scalar.andi v478 c8191_i32_244
  let c8_i32_245 : BitVec 32 := 8#32
  let v480 : BitVec 32 := Scalar.muli v479 c8_i32_245
  v480

def k0_off55 (v477 : BitVec 32) : Fin 2 → Nat :=
  let c3_i32_243 : BitVec 32 := 3#32
  let v478 : BitVec 32 := Scalar.shrsi v477 c3_i32_243
  let c8191_i32_244 : BitVec 32 := 8191#32
  let v479 : BitVec 32 := Scalar.andi v478 c8191_i32_244
  let c8_i32_245 : BitVec 32 := 8#32
  let v480 : BitVec 32 := Scalar.muli v479 c8_i32_245
  let v481 : BitVec 32 := v480
  let v482 : Index := Scalar.indexCast v481
  let c0_246 : Index := 0#32
  ![v482.toNat, 0]
def k0_off56 (v477 : BitVec 32) : Fin 2 → Nat :=
  let c3_i32_243 : BitVec 32 := 3#32
  let v478 : BitVec 32 := Scalar.shrsi v477 c3_i32_243
  let c8191_i32_244 : BitVec 32 := 8191#32
  let v479 : BitVec 32 := Scalar.andi v478 c8191_i32_244
  let v487 : Index := Scalar.indexCast v479
  let c0_248 : Index := 0#32
  ![v487.toNat, 0]

def k0_chk28 (i : grid0.Coords) (v477 : BitVec 32) : Prop :=
  (∀ (k0_h1 : k0_cond1 i = 1#1), 8 ∣ (k0_mult28 v477).toNat) ∧
  (∀ (k0_h1 : k0_cond1 i = 1#1), ∀ a, (k0_off55 v477) a + S8x128.size a ≤ S65536x128.size a) ∧
  (∀ (k0_h1 : k0_cond1 i = 1#1), ∀ a, (k0_off56 v477) a + S1x128.size a ≤ S8192x128.size a)
theorem k0_mult28_dvd : ∀ (i : grid0.Coords) (v477 : BitVec 32) (k0_hw28 : k0_chk28 i v477), ∀ (k0_h1 : k0_cond1 i = 1#1), 8 ∣ (k0_mult28 v477).toNat := fun i v477 k0_hw28 k0_h1 => k0_hw28.1 k0_h1
theorem k0_off55_inb : ∀ (i : grid0.Coords) (v477 : BitVec 32) (k0_hw28 : k0_chk28 i v477), ∀ (k0_h1 : k0_cond1 i = 1#1), ∀ a, (k0_off55 v477) a + S8x128.size a ≤ S65536x128.size a := fun i v477 k0_hw28 k0_h1 => k0_hw28.2.1 k0_h1
theorem k0_off56_inb : ∀ (i : grid0.Coords) (v477 : BitVec 32) (k0_hw28 : k0_chk28 i v477), ∀ (k0_h1 : k0_cond1 i = 1#1), ∀ a, (k0_off56 v477) a + S1x128.size a ≤ S8192x128.size a := fun i v477 k0_hw28 k0_h1 => k0_hw28.2.2 k0_h1

def k0_mult29 (v492 : BitVec 32) : BitVec 32 :=
  let c3_i32_251 : BitVec 32 := 3#32
  let v493 : BitVec 32 := Scalar.shrsi v492 c3_i32_251
  let c8191_i32_252 : BitVec 32 := 8191#32
  let v494 : BitVec 32 := Scalar.andi v493 c8191_i32_252
  let c8_i32_253 : BitVec 32 := 8#32
  let v495 : BitVec 32 := Scalar.muli v494 c8_i32_253
  v495

def k0_off57 (v492 : BitVec 32) : Fin 2 → Nat :=
  let c3_i32_251 : BitVec 32 := 3#32
  let v493 : BitVec 32 := Scalar.shrsi v492 c3_i32_251
  let c8191_i32_252 : BitVec 32 := 8191#32
  let v494 : BitVec 32 := Scalar.andi v493 c8191_i32_252
  let c8_i32_253 : BitVec 32 := 8#32
  let v495 : BitVec 32 := Scalar.muli v494 c8_i32_253
  let v496 : BitVec 32 := v495
  let v497 : Index := Scalar.indexCast v496
  let c0_254 : Index := 0#32
  ![v497.toNat, 0]
def k0_off58 (v492 : BitVec 32) : Fin 2 → Nat :=
  let c3_i32_251 : BitVec 32 := 3#32
  let v493 : BitVec 32 := Scalar.shrsi v492 c3_i32_251
  let c8191_i32_252 : BitVec 32 := 8191#32
  let v494 : BitVec 32 := Scalar.andi v493 c8191_i32_252
  let v502 : Index := Scalar.indexCast v494
  let c0_256 : Index := 0#32
  ![v502.toNat, 0]

def k0_chk29 (i : grid0.Coords) (v492 : BitVec 32) : Prop :=
  (∀ (k0_h1 : k0_cond1 i = 1#1), 8 ∣ (k0_mult29 v492).toNat) ∧
  (∀ (k0_h1 : k0_cond1 i = 1#1), ∀ a, (k0_off57 v492) a + S8x128.size a ≤ S65536x128.size a) ∧
  (∀ (k0_h1 : k0_cond1 i = 1#1), ∀ a, (k0_off58 v492) a + S1x128.size a ≤ S8192x128.size a)
theorem k0_mult29_dvd : ∀ (i : grid0.Coords) (v492 : BitVec 32) (k0_hw29 : k0_chk29 i v492), ∀ (k0_h1 : k0_cond1 i = 1#1), 8 ∣ (k0_mult29 v492).toNat := fun i v492 k0_hw29 k0_h1 => k0_hw29.1 k0_h1
theorem k0_off57_inb : ∀ (i : grid0.Coords) (v492 : BitVec 32) (k0_hw29 : k0_chk29 i v492), ∀ (k0_h1 : k0_cond1 i = 1#1), ∀ a, (k0_off57 v492) a + S8x128.size a ≤ S65536x128.size a := fun i v492 k0_hw29 k0_h1 => k0_hw29.2.1 k0_h1
theorem k0_off58_inb : ∀ (i : grid0.Coords) (v492 : BitVec 32) (k0_hw29 : k0_chk29 i v492), ∀ (k0_h1 : k0_cond1 i = 1#1), ∀ a, (k0_off58 v492) a + S1x128.size a ≤ S8192x128.size a := fun i v492 k0_hw29 k0_h1 => k0_hw29.2.2 k0_h1

def k0_mult30 (v507 : BitVec 32) : BitVec 32 :=
  let c3_i32_259 : BitVec 32 := 3#32
  let v508 : BitVec 32 := Scalar.shrsi v507 c3_i32_259
  let c8191_i32_260 : BitVec 32 := 8191#32
  let v509 : BitVec 32 := Scalar.andi v508 c8191_i32_260
  let c8_i32_261 : BitVec 32 := 8#32
  let v510 : BitVec 32 := Scalar.muli v509 c8_i32_261
  v510

def k0_off59 (v507 : BitVec 32) : Fin 2 → Nat :=
  let c3_i32_259 : BitVec 32 := 3#32
  let v508 : BitVec 32 := Scalar.shrsi v507 c3_i32_259
  let c8191_i32_260 : BitVec 32 := 8191#32
  let v509 : BitVec 32 := Scalar.andi v508 c8191_i32_260
  let c8_i32_261 : BitVec 32 := 8#32
  let v510 : BitVec 32 := Scalar.muli v509 c8_i32_261
  let v511 : BitVec 32 := v510
  let v512 : Index := Scalar.indexCast v511
  let c0_262 : Index := 0#32
  ![v512.toNat, 0]
def k0_off60 (v507 : BitVec 32) : Fin 2 → Nat :=
  let c3_i32_259 : BitVec 32 := 3#32
  let v508 : BitVec 32 := Scalar.shrsi v507 c3_i32_259
  let c8191_i32_260 : BitVec 32 := 8191#32
  let v509 : BitVec 32 := Scalar.andi v508 c8191_i32_260
  let v517 : Index := Scalar.indexCast v509
  let c0_264 : Index := 0#32
  ![v517.toNat, 0]

def k0_chk30 (i : grid0.Coords) (v507 : BitVec 32) : Prop :=
  (∀ (k0_h1 : k0_cond1 i = 1#1), 8 ∣ (k0_mult30 v507).toNat) ∧
  (∀ (k0_h1 : k0_cond1 i = 1#1), ∀ a, (k0_off59 v507) a + S8x128.size a ≤ S65536x128.size a) ∧
  (∀ (k0_h1 : k0_cond1 i = 1#1), ∀ a, (k0_off60 v507) a + S1x128.size a ≤ S8192x128.size a)
theorem k0_mult30_dvd : ∀ (i : grid0.Coords) (v507 : BitVec 32) (k0_hw30 : k0_chk30 i v507), ∀ (k0_h1 : k0_cond1 i = 1#1), 8 ∣ (k0_mult30 v507).toNat := fun i v507 k0_hw30 k0_h1 => k0_hw30.1 k0_h1
theorem k0_off59_inb : ∀ (i : grid0.Coords) (v507 : BitVec 32) (k0_hw30 : k0_chk30 i v507), ∀ (k0_h1 : k0_cond1 i = 1#1), ∀ a, (k0_off59 v507) a + S8x128.size a ≤ S65536x128.size a := fun i v507 k0_hw30 k0_h1 => k0_hw30.2.1 k0_h1
theorem k0_off60_inb : ∀ (i : grid0.Coords) (v507 : BitVec 32) (k0_hw30 : k0_chk30 i v507), ∀ (k0_h1 : k0_cond1 i = 1#1), ∀ a, (k0_off60 v507) a + S1x128.size a ≤ S8192x128.size a := fun i v507 k0_hw30 k0_h1 => k0_hw30.2.2 k0_h1

def k0_mult31 (v522 : BitVec 32) : BitVec 32 :=
  let c3_i32_267 : BitVec 32 := 3#32
  let v523 : BitVec 32 := Scalar.shrsi v522 c3_i32_267
  let c8191_i32_268 : BitVec 32 := 8191#32
  let v524 : BitVec 32 := Scalar.andi v523 c8191_i32_268
  let c8_i32_269 : BitVec 32 := 8#32
  let v525 : BitVec 32 := Scalar.muli v524 c8_i32_269
  v525

def k0_off61 (v522 : BitVec 32) : Fin 2 → Nat :=
  let c3_i32_267 : BitVec 32 := 3#32
  let v523 : BitVec 32 := Scalar.shrsi v522 c3_i32_267
  let c8191_i32_268 : BitVec 32 := 8191#32
  let v524 : BitVec 32 := Scalar.andi v523 c8191_i32_268
  let c8_i32_269 : BitVec 32 := 8#32
  let v525 : BitVec 32 := Scalar.muli v524 c8_i32_269
  let v526 : BitVec 32 := v525
  let v527 : Index := Scalar.indexCast v526
  let c0_270 : Index := 0#32
  ![v527.toNat, 0]
def k0_off62 (v522 : BitVec 32) : Fin 2 → Nat :=
  let c3_i32_267 : BitVec 32 := 3#32
  let v523 : BitVec 32 := Scalar.shrsi v522 c3_i32_267
  let c8191_i32_268 : BitVec 32 := 8191#32
  let v524 : BitVec 32 := Scalar.andi v523 c8191_i32_268
  let v532 : Index := Scalar.indexCast v524
  let c0_272 : Index := 0#32
  ![v532.toNat, 0]

def k0_chk31 (i : grid0.Coords) (v522 : BitVec 32) : Prop :=
  (∀ (k0_h1 : k0_cond1 i = 1#1), 8 ∣ (k0_mult31 v522).toNat) ∧
  (∀ (k0_h1 : k0_cond1 i = 1#1), ∀ a, (k0_off61 v522) a + S8x128.size a ≤ S65536x128.size a) ∧
  (∀ (k0_h1 : k0_cond1 i = 1#1), ∀ a, (k0_off62 v522) a + S1x128.size a ≤ S8192x128.size a)
theorem k0_mult31_dvd : ∀ (i : grid0.Coords) (v522 : BitVec 32) (k0_hw31 : k0_chk31 i v522), ∀ (k0_h1 : k0_cond1 i = 1#1), 8 ∣ (k0_mult31 v522).toNat := fun i v522 k0_hw31 k0_h1 => k0_hw31.1 k0_h1
theorem k0_off61_inb : ∀ (i : grid0.Coords) (v522 : BitVec 32) (k0_hw31 : k0_chk31 i v522), ∀ (k0_h1 : k0_cond1 i = 1#1), ∀ a, (k0_off61 v522) a + S8x128.size a ≤ S65536x128.size a := fun i v522 k0_hw31 k0_h1 => k0_hw31.2.1 k0_h1
theorem k0_off62_inb : ∀ (i : grid0.Coords) (v522 : BitVec 32) (k0_hw31 : k0_chk31 i v522), ∀ (k0_h1 : k0_cond1 i = 1#1), ∀ a, (k0_off62 v522) a + S1x128.size a ≤ S8192x128.size a := fun i v522 k0_hw31 k0_h1 => k0_hw31.2.2 k0_h1

def k0_mult32 (v537 : BitVec 32) : BitVec 32 :=
  let c3_i32_275 : BitVec 32 := 3#32
  let v538 : BitVec 32 := Scalar.shrsi v537 c3_i32_275
  let c8191_i32_276 : BitVec 32 := 8191#32
  let v539 : BitVec 32 := Scalar.andi v538 c8191_i32_276
  let c8_i32_277 : BitVec 32 := 8#32
  let v540 : BitVec 32 := Scalar.muli v539 c8_i32_277
  v540

def k0_off63 (v537 : BitVec 32) : Fin 2 → Nat :=
  let c3_i32_275 : BitVec 32 := 3#32
  let v538 : BitVec 32 := Scalar.shrsi v537 c3_i32_275
  let c8191_i32_276 : BitVec 32 := 8191#32
  let v539 : BitVec 32 := Scalar.andi v538 c8191_i32_276
  let c8_i32_277 : BitVec 32 := 8#32
  let v540 : BitVec 32 := Scalar.muli v539 c8_i32_277
  let v541 : BitVec 32 := v540
  let v542 : Index := Scalar.indexCast v541
  let c0_278 : Index := 0#32
  ![v542.toNat, 0]
def k0_off64 (v537 : BitVec 32) : Fin 2 → Nat :=
  let c3_i32_275 : BitVec 32 := 3#32
  let v538 : BitVec 32 := Scalar.shrsi v537 c3_i32_275
  let c8191_i32_276 : BitVec 32 := 8191#32
  let v539 : BitVec 32 := Scalar.andi v538 c8191_i32_276
  let v547 : Index := Scalar.indexCast v539
  let c0_280 : Index := 0#32
  ![v547.toNat, 0]

def k0_chk32 (i : grid0.Coords) (v537 : BitVec 32) : Prop :=
  (∀ (k0_h1 : k0_cond1 i = 1#1), 8 ∣ (k0_mult32 v537).toNat) ∧
  (∀ (k0_h1 : k0_cond1 i = 1#1), ∀ a, (k0_off63 v537) a + S8x128.size a ≤ S65536x128.size a) ∧
  (∀ (k0_h1 : k0_cond1 i = 1#1), ∀ a, (k0_off64 v537) a + S1x128.size a ≤ S8192x128.size a)
theorem k0_mult32_dvd : ∀ (i : grid0.Coords) (v537 : BitVec 32) (k0_hw32 : k0_chk32 i v537), ∀ (k0_h1 : k0_cond1 i = 1#1), 8 ∣ (k0_mult32 v537).toNat := fun i v537 k0_hw32 k0_h1 => k0_hw32.1 k0_h1
theorem k0_off63_inb : ∀ (i : grid0.Coords) (v537 : BitVec 32) (k0_hw32 : k0_chk32 i v537), ∀ (k0_h1 : k0_cond1 i = 1#1), ∀ a, (k0_off63 v537) a + S8x128.size a ≤ S65536x128.size a := fun i v537 k0_hw32 k0_h1 => k0_hw32.2.1 k0_h1
theorem k0_off64_inb : ∀ (i : grid0.Coords) (v537 : BitVec 32) (k0_hw32 : k0_chk32 i v537), ∀ (k0_h1 : k0_cond1 i = 1#1), ∀ a, (k0_off64 v537) a + S1x128.size a ≤ S8192x128.size a := fun i v537 k0_hw32 k0_h1 => k0_hw32.2.2 k0_h1

def k0_mult33 (v552 : BitVec 32) : BitVec 32 :=
  let c3_i32_284 : BitVec 32 := 3#32
  let v553 : BitVec 32 := Scalar.shrsi v552 c3_i32_284
  let c8191_i32_285 : BitVec 32 := 8191#32
  let v554 : BitVec 32 := Scalar.andi v553 c8191_i32_285
  let c8_i32_286 : BitVec 32 := 8#32
  let v555 : BitVec 32 := Scalar.muli v554 c8_i32_286
  v555

def k0_off65 (v552 : BitVec 32) : Fin 2 → Nat :=
  let c3_i32_284 : BitVec 32 := 3#32
  let v553 : BitVec 32 := Scalar.shrsi v552 c3_i32_284
  let c8191_i32_285 : BitVec 32 := 8191#32
  let v554 : BitVec 32 := Scalar.andi v553 c8191_i32_285
  let c8_i32_286 : BitVec 32 := 8#32
  let v555 : BitVec 32 := Scalar.muli v554 c8_i32_286
  let v556 : BitVec 32 := v555
  let v557 : Index := Scalar.indexCast v556
  let c0_287 : Index := 0#32
  ![v557.toNat, 0]
def k0_off66 (v552 : BitVec 32) : Fin 2 → Nat :=
  let c3_i32_284 : BitVec 32 := 3#32
  let v553 : BitVec 32 := Scalar.shrsi v552 c3_i32_284
  let c8191_i32_285 : BitVec 32 := 8191#32
  let v554 : BitVec 32 := Scalar.andi v553 c8191_i32_285
  let v562 : Index := Scalar.indexCast v554
  let c0_289 : Index := 0#32
  ![v562.toNat, 0]

def k0_chk33 (i : grid0.Coords) (v552 : BitVec 32) : Prop :=
  (∀ (k0_h1 : k0_cond1 i = 1#1), 8 ∣ (k0_mult33 v552).toNat) ∧
  (∀ (k0_h1 : k0_cond1 i = 1#1), ∀ a, (k0_off65 v552) a + S8x128.size a ≤ S65536x128.size a) ∧
  (∀ (k0_h1 : k0_cond1 i = 1#1), ∀ a, (k0_off66 v552) a + S1x128.size a ≤ S8192x128.size a)
theorem k0_mult33_dvd : ∀ (i : grid0.Coords) (v552 : BitVec 32) (k0_hw33 : k0_chk33 i v552), ∀ (k0_h1 : k0_cond1 i = 1#1), 8 ∣ (k0_mult33 v552).toNat := fun i v552 k0_hw33 k0_h1 => k0_hw33.1 k0_h1
theorem k0_off65_inb : ∀ (i : grid0.Coords) (v552 : BitVec 32) (k0_hw33 : k0_chk33 i v552), ∀ (k0_h1 : k0_cond1 i = 1#1), ∀ a, (k0_off65 v552) a + S8x128.size a ≤ S65536x128.size a := fun i v552 k0_hw33 k0_h1 => k0_hw33.2.1 k0_h1
theorem k0_off66_inb : ∀ (i : grid0.Coords) (v552 : BitVec 32) (k0_hw33 : k0_chk33 i v552), ∀ (k0_h1 : k0_cond1 i = 1#1), ∀ a, (k0_off66 v552) a + S1x128.size a ≤ S8192x128.size a := fun i v552 k0_hw33 k0_h1 => k0_hw33.2.2 k0_h1

def k0_mult34 (v567 : BitVec 32) : BitVec 32 :=
  let c3_i32_292 : BitVec 32 := 3#32
  let v568 : BitVec 32 := Scalar.shrsi v567 c3_i32_292
  let c8191_i32_293 : BitVec 32 := 8191#32
  let v569 : BitVec 32 := Scalar.andi v568 c8191_i32_293
  let c8_i32_294 : BitVec 32 := 8#32
  let v570 : BitVec 32 := Scalar.muli v569 c8_i32_294
  v570

def k0_off67 (v567 : BitVec 32) : Fin 2 → Nat :=
  let c3_i32_292 : BitVec 32 := 3#32
  let v568 : BitVec 32 := Scalar.shrsi v567 c3_i32_292
  let c8191_i32_293 : BitVec 32 := 8191#32
  let v569 : BitVec 32 := Scalar.andi v568 c8191_i32_293
  let c8_i32_294 : BitVec 32 := 8#32
  let v570 : BitVec 32 := Scalar.muli v569 c8_i32_294
  let v571 : BitVec 32 := v570
  let v572 : Index := Scalar.indexCast v571
  let c0_295 : Index := 0#32
  ![v572.toNat, 0]
def k0_off68 (v567 : BitVec 32) : Fin 2 → Nat :=
  let c3_i32_292 : BitVec 32 := 3#32
  let v568 : BitVec 32 := Scalar.shrsi v567 c3_i32_292
  let c8191_i32_293 : BitVec 32 := 8191#32
  let v569 : BitVec 32 := Scalar.andi v568 c8191_i32_293
  let v577 : Index := Scalar.indexCast v569
  let c0_297 : Index := 0#32
  ![v577.toNat, 0]

def k0_chk34 (i : grid0.Coords) (v567 : BitVec 32) : Prop :=
  (∀ (k0_h1 : k0_cond1 i = 1#1), 8 ∣ (k0_mult34 v567).toNat) ∧
  (∀ (k0_h1 : k0_cond1 i = 1#1), ∀ a, (k0_off67 v567) a + S8x128.size a ≤ S65536x128.size a) ∧
  (∀ (k0_h1 : k0_cond1 i = 1#1), ∀ a, (k0_off68 v567) a + S1x128.size a ≤ S8192x128.size a)
theorem k0_mult34_dvd : ∀ (i : grid0.Coords) (v567 : BitVec 32) (k0_hw34 : k0_chk34 i v567), ∀ (k0_h1 : k0_cond1 i = 1#1), 8 ∣ (k0_mult34 v567).toNat := fun i v567 k0_hw34 k0_h1 => k0_hw34.1 k0_h1
theorem k0_off67_inb : ∀ (i : grid0.Coords) (v567 : BitVec 32) (k0_hw34 : k0_chk34 i v567), ∀ (k0_h1 : k0_cond1 i = 1#1), ∀ a, (k0_off67 v567) a + S8x128.size a ≤ S65536x128.size a := fun i v567 k0_hw34 k0_h1 => k0_hw34.2.1 k0_h1
theorem k0_off68_inb : ∀ (i : grid0.Coords) (v567 : BitVec 32) (k0_hw34 : k0_chk34 i v567), ∀ (k0_h1 : k0_cond1 i = 1#1), ∀ a, (k0_off68 v567) a + S1x128.size a ≤ S8192x128.size a := fun i v567 k0_hw34 k0_h1 => k0_hw34.2.2 k0_h1

def k0_mult35 (v582 : BitVec 32) : BitVec 32 :=
  let c3_i32_300 : BitVec 32 := 3#32
  let v583 : BitVec 32 := Scalar.shrsi v582 c3_i32_300
  let c8191_i32_301 : BitVec 32 := 8191#32
  let v584 : BitVec 32 := Scalar.andi v583 c8191_i32_301
  let c8_i32_302 : BitVec 32 := 8#32
  let v585 : BitVec 32 := Scalar.muli v584 c8_i32_302
  v585

def k0_off69 (v582 : BitVec 32) : Fin 2 → Nat :=
  let c3_i32_300 : BitVec 32 := 3#32
  let v583 : BitVec 32 := Scalar.shrsi v582 c3_i32_300
  let c8191_i32_301 : BitVec 32 := 8191#32
  let v584 : BitVec 32 := Scalar.andi v583 c8191_i32_301
  let c8_i32_302 : BitVec 32 := 8#32
  let v585 : BitVec 32 := Scalar.muli v584 c8_i32_302
  let v586 : BitVec 32 := v585
  let v587 : Index := Scalar.indexCast v586
  let c0_303 : Index := 0#32
  ![v587.toNat, 0]
def k0_off70 (v582 : BitVec 32) : Fin 2 → Nat :=
  let c3_i32_300 : BitVec 32 := 3#32
  let v583 : BitVec 32 := Scalar.shrsi v582 c3_i32_300
  let c8191_i32_301 : BitVec 32 := 8191#32
  let v584 : BitVec 32 := Scalar.andi v583 c8191_i32_301
  let v592 : Index := Scalar.indexCast v584
  let c0_305 : Index := 0#32
  ![v592.toNat, 0]

def k0_chk35 (i : grid0.Coords) (v582 : BitVec 32) : Prop :=
  (∀ (k0_h1 : k0_cond1 i = 1#1), 8 ∣ (k0_mult35 v582).toNat) ∧
  (∀ (k0_h1 : k0_cond1 i = 1#1), ∀ a, (k0_off69 v582) a + S8x128.size a ≤ S65536x128.size a) ∧
  (∀ (k0_h1 : k0_cond1 i = 1#1), ∀ a, (k0_off70 v582) a + S1x128.size a ≤ S8192x128.size a)
theorem k0_mult35_dvd : ∀ (i : grid0.Coords) (v582 : BitVec 32) (k0_hw35 : k0_chk35 i v582), ∀ (k0_h1 : k0_cond1 i = 1#1), 8 ∣ (k0_mult35 v582).toNat := fun i v582 k0_hw35 k0_h1 => k0_hw35.1 k0_h1
theorem k0_off69_inb : ∀ (i : grid0.Coords) (v582 : BitVec 32) (k0_hw35 : k0_chk35 i v582), ∀ (k0_h1 : k0_cond1 i = 1#1), ∀ a, (k0_off69 v582) a + S8x128.size a ≤ S65536x128.size a := fun i v582 k0_hw35 k0_h1 => k0_hw35.2.1 k0_h1
theorem k0_off70_inb : ∀ (i : grid0.Coords) (v582 : BitVec 32) (k0_hw35 : k0_chk35 i v582), ∀ (k0_h1 : k0_cond1 i = 1#1), ∀ a, (k0_off70 v582) a + S1x128.size a ≤ S8192x128.size a := fun i v582 k0_hw35 k0_h1 => k0_hw35.2.2 k0_h1

def k0_mult36 (v597 : BitVec 32) : BitVec 32 :=
  let c3_i32_308 : BitVec 32 := 3#32
  let v598 : BitVec 32 := Scalar.shrsi v597 c3_i32_308
  let c8191_i32_309 : BitVec 32 := 8191#32
  let v599 : BitVec 32 := Scalar.andi v598 c8191_i32_309
  let c8_i32_310 : BitVec 32 := 8#32
  let v600 : BitVec 32 := Scalar.muli v599 c8_i32_310
  v600

def k0_off71 (v597 : BitVec 32) : Fin 2 → Nat :=
  let c3_i32_308 : BitVec 32 := 3#32
  let v598 : BitVec 32 := Scalar.shrsi v597 c3_i32_308
  let c8191_i32_309 : BitVec 32 := 8191#32
  let v599 : BitVec 32 := Scalar.andi v598 c8191_i32_309
  let c8_i32_310 : BitVec 32 := 8#32
  let v600 : BitVec 32 := Scalar.muli v599 c8_i32_310
  let v601 : BitVec 32 := v600
  let v602 : Index := Scalar.indexCast v601
  let c0_311 : Index := 0#32
  ![v602.toNat, 0]
def k0_off72 (v597 : BitVec 32) : Fin 2 → Nat :=
  let c3_i32_308 : BitVec 32 := 3#32
  let v598 : BitVec 32 := Scalar.shrsi v597 c3_i32_308
  let c8191_i32_309 : BitVec 32 := 8191#32
  let v599 : BitVec 32 := Scalar.andi v598 c8191_i32_309
  let v607 : Index := Scalar.indexCast v599
  let c0_313 : Index := 0#32
  ![v607.toNat, 0]

def k0_chk36 (i : grid0.Coords) (v597 : BitVec 32) : Prop :=
  (∀ (k0_h1 : k0_cond1 i = 1#1), 8 ∣ (k0_mult36 v597).toNat) ∧
  (∀ (k0_h1 : k0_cond1 i = 1#1), ∀ a, (k0_off71 v597) a + S8x128.size a ≤ S65536x128.size a) ∧
  (∀ (k0_h1 : k0_cond1 i = 1#1), ∀ a, (k0_off72 v597) a + S1x128.size a ≤ S8192x128.size a)
theorem k0_mult36_dvd : ∀ (i : grid0.Coords) (v597 : BitVec 32) (k0_hw36 : k0_chk36 i v597), ∀ (k0_h1 : k0_cond1 i = 1#1), 8 ∣ (k0_mult36 v597).toNat := fun i v597 k0_hw36 k0_h1 => k0_hw36.1 k0_h1
theorem k0_off71_inb : ∀ (i : grid0.Coords) (v597 : BitVec 32) (k0_hw36 : k0_chk36 i v597), ∀ (k0_h1 : k0_cond1 i = 1#1), ∀ a, (k0_off71 v597) a + S8x128.size a ≤ S65536x128.size a := fun i v597 k0_hw36 k0_h1 => k0_hw36.2.1 k0_h1
theorem k0_off72_inb : ∀ (i : grid0.Coords) (v597 : BitVec 32) (k0_hw36 : k0_chk36 i v597), ∀ (k0_h1 : k0_cond1 i = 1#1), ∀ a, (k0_off72 v597) a + S1x128.size a ≤ S8192x128.size a := fun i v597 k0_hw36 k0_h1 => k0_hw36.2.2 k0_h1

def k0_mult37 (v612 : BitVec 32) : BitVec 32 :=
  let c3_i32_316 : BitVec 32 := 3#32
  let v613 : BitVec 32 := Scalar.shrsi v612 c3_i32_316
  let c8191_i32_317 : BitVec 32 := 8191#32
  let v614 : BitVec 32 := Scalar.andi v613 c8191_i32_317
  let c8_i32_318 : BitVec 32 := 8#32
  let v615 : BitVec 32 := Scalar.muli v614 c8_i32_318
  v615

def k0_off73 (v612 : BitVec 32) : Fin 2 → Nat :=
  let c3_i32_316 : BitVec 32 := 3#32
  let v613 : BitVec 32 := Scalar.shrsi v612 c3_i32_316
  let c8191_i32_317 : BitVec 32 := 8191#32
  let v614 : BitVec 32 := Scalar.andi v613 c8191_i32_317
  let c8_i32_318 : BitVec 32 := 8#32
  let v615 : BitVec 32 := Scalar.muli v614 c8_i32_318
  let v616 : BitVec 32 := v615
  let v617 : Index := Scalar.indexCast v616
  let c0_319 : Index := 0#32
  ![v617.toNat, 0]
def k0_off74 (v612 : BitVec 32) : Fin 2 → Nat :=
  let c3_i32_316 : BitVec 32 := 3#32
  let v613 : BitVec 32 := Scalar.shrsi v612 c3_i32_316
  let c8191_i32_317 : BitVec 32 := 8191#32
  let v614 : BitVec 32 := Scalar.andi v613 c8191_i32_317
  let v622 : Index := Scalar.indexCast v614
  let c0_321 : Index := 0#32
  ![v622.toNat, 0]

def k0_chk37 (i : grid0.Coords) (v612 : BitVec 32) : Prop :=
  (∀ (k0_h1 : k0_cond1 i = 1#1), 8 ∣ (k0_mult37 v612).toNat) ∧
  (∀ (k0_h1 : k0_cond1 i = 1#1), ∀ a, (k0_off73 v612) a + S8x128.size a ≤ S65536x128.size a) ∧
  (∀ (k0_h1 : k0_cond1 i = 1#1), ∀ a, (k0_off74 v612) a + S1x128.size a ≤ S8192x128.size a)
theorem k0_mult37_dvd : ∀ (i : grid0.Coords) (v612 : BitVec 32) (k0_hw37 : k0_chk37 i v612), ∀ (k0_h1 : k0_cond1 i = 1#1), 8 ∣ (k0_mult37 v612).toNat := fun i v612 k0_hw37 k0_h1 => k0_hw37.1 k0_h1
theorem k0_off73_inb : ∀ (i : grid0.Coords) (v612 : BitVec 32) (k0_hw37 : k0_chk37 i v612), ∀ (k0_h1 : k0_cond1 i = 1#1), ∀ a, (k0_off73 v612) a + S8x128.size a ≤ S65536x128.size a := fun i v612 k0_hw37 k0_h1 => k0_hw37.2.1 k0_h1
theorem k0_off74_inb : ∀ (i : grid0.Coords) (v612 : BitVec 32) (k0_hw37 : k0_chk37 i v612), ∀ (k0_h1 : k0_cond1 i = 1#1), ∀ a, (k0_off74 v612) a + S1x128.size a ≤ S8192x128.size a := fun i v612 k0_hw37 k0_h1 => k0_hw37.2.2 k0_h1

def k0_mult38 (v627 : BitVec 32) : BitVec 32 :=
  let c3_i32_324 : BitVec 32 := 3#32
  let v628 : BitVec 32 := Scalar.shrsi v627 c3_i32_324
  let c8191_i32_325 : BitVec 32 := 8191#32
  let v629 : BitVec 32 := Scalar.andi v628 c8191_i32_325
  let c8_i32_326 : BitVec 32 := 8#32
  let v630 : BitVec 32 := Scalar.muli v629 c8_i32_326
  v630

def k0_off75 (v627 : BitVec 32) : Fin 2 → Nat :=
  let c3_i32_324 : BitVec 32 := 3#32
  let v628 : BitVec 32 := Scalar.shrsi v627 c3_i32_324
  let c8191_i32_325 : BitVec 32 := 8191#32
  let v629 : BitVec 32 := Scalar.andi v628 c8191_i32_325
  let c8_i32_326 : BitVec 32 := 8#32
  let v630 : BitVec 32 := Scalar.muli v629 c8_i32_326
  let v631 : BitVec 32 := v630
  let v632 : Index := Scalar.indexCast v631
  let c0_327 : Index := 0#32
  ![v632.toNat, 0]
def k0_off76 (v627 : BitVec 32) : Fin 2 → Nat :=
  let c3_i32_324 : BitVec 32 := 3#32
  let v628 : BitVec 32 := Scalar.shrsi v627 c3_i32_324
  let c8191_i32_325 : BitVec 32 := 8191#32
  let v629 : BitVec 32 := Scalar.andi v628 c8191_i32_325
  let v637 : Index := Scalar.indexCast v629
  let c0_329 : Index := 0#32
  ![v637.toNat, 0]

def k0_chk38 (i : grid0.Coords) (v627 : BitVec 32) : Prop :=
  (∀ (k0_h1 : k0_cond1 i = 1#1), 8 ∣ (k0_mult38 v627).toNat) ∧
  (∀ (k0_h1 : k0_cond1 i = 1#1), ∀ a, (k0_off75 v627) a + S8x128.size a ≤ S65536x128.size a) ∧
  (∀ (k0_h1 : k0_cond1 i = 1#1), ∀ a, (k0_off76 v627) a + S1x128.size a ≤ S8192x128.size a)
theorem k0_mult38_dvd : ∀ (i : grid0.Coords) (v627 : BitVec 32) (k0_hw38 : k0_chk38 i v627), ∀ (k0_h1 : k0_cond1 i = 1#1), 8 ∣ (k0_mult38 v627).toNat := fun i v627 k0_hw38 k0_h1 => k0_hw38.1 k0_h1
theorem k0_off75_inb : ∀ (i : grid0.Coords) (v627 : BitVec 32) (k0_hw38 : k0_chk38 i v627), ∀ (k0_h1 : k0_cond1 i = 1#1), ∀ a, (k0_off75 v627) a + S8x128.size a ≤ S65536x128.size a := fun i v627 k0_hw38 k0_h1 => k0_hw38.2.1 k0_h1
theorem k0_off76_inb : ∀ (i : grid0.Coords) (v627 : BitVec 32) (k0_hw38 : k0_chk38 i v627), ∀ (k0_h1 : k0_cond1 i = 1#1), ∀ a, (k0_off76 v627) a + S1x128.size a ≤ S8192x128.size a := fun i v627 k0_hw38 k0_h1 => k0_hw38.2.2 k0_h1

def k0_mult39 (v642 : BitVec 32) : BitVec 32 :=
  let c3_i32_332 : BitVec 32 := 3#32
  let v643 : BitVec 32 := Scalar.shrsi v642 c3_i32_332
  let c8191_i32_333 : BitVec 32 := 8191#32
  let v644 : BitVec 32 := Scalar.andi v643 c8191_i32_333
  let c8_i32_334 : BitVec 32 := 8#32
  let v645 : BitVec 32 := Scalar.muli v644 c8_i32_334
  v645

def k0_off77 (v642 : BitVec 32) : Fin 2 → Nat :=
  let c3_i32_332 : BitVec 32 := 3#32
  let v643 : BitVec 32 := Scalar.shrsi v642 c3_i32_332
  let c8191_i32_333 : BitVec 32 := 8191#32
  let v644 : BitVec 32 := Scalar.andi v643 c8191_i32_333
  let c8_i32_334 : BitVec 32 := 8#32
  let v645 : BitVec 32 := Scalar.muli v644 c8_i32_334
  let v646 : BitVec 32 := v645
  let v647 : Index := Scalar.indexCast v646
  let c0_335 : Index := 0#32
  ![v647.toNat, 0]
def k0_off78 (v642 : BitVec 32) : Fin 2 → Nat :=
  let c3_i32_332 : BitVec 32 := 3#32
  let v643 : BitVec 32 := Scalar.shrsi v642 c3_i32_332
  let c8191_i32_333 : BitVec 32 := 8191#32
  let v644 : BitVec 32 := Scalar.andi v643 c8191_i32_333
  let v652 : Index := Scalar.indexCast v644
  let c0_337 : Index := 0#32
  ![v652.toNat, 0]

def k0_chk39 (i : grid0.Coords) (v642 : BitVec 32) : Prop :=
  (∀ (k0_h1 : k0_cond1 i = 1#1), 8 ∣ (k0_mult39 v642).toNat) ∧
  (∀ (k0_h1 : k0_cond1 i = 1#1), ∀ a, (k0_off77 v642) a + S8x128.size a ≤ S65536x128.size a) ∧
  (∀ (k0_h1 : k0_cond1 i = 1#1), ∀ a, (k0_off78 v642) a + S1x128.size a ≤ S8192x128.size a)
theorem k0_mult39_dvd : ∀ (i : grid0.Coords) (v642 : BitVec 32) (k0_hw39 : k0_chk39 i v642), ∀ (k0_h1 : k0_cond1 i = 1#1), 8 ∣ (k0_mult39 v642).toNat := fun i v642 k0_hw39 k0_h1 => k0_hw39.1 k0_h1
theorem k0_off77_inb : ∀ (i : grid0.Coords) (v642 : BitVec 32) (k0_hw39 : k0_chk39 i v642), ∀ (k0_h1 : k0_cond1 i = 1#1), ∀ a, (k0_off77 v642) a + S8x128.size a ≤ S65536x128.size a := fun i v642 k0_hw39 k0_h1 => k0_hw39.2.1 k0_h1
theorem k0_off78_inb : ∀ (i : grid0.Coords) (v642 : BitVec 32) (k0_hw39 : k0_chk39 i v642), ∀ (k0_h1 : k0_cond1 i = 1#1), ∀ a, (k0_off78 v642) a + S1x128.size a ≤ S8192x128.size a := fun i v642 k0_hw39 k0_h1 => k0_hw39.2.2 k0_h1

def k0_mult40 (v657 : BitVec 32) : BitVec 32 :=
  let c3_i32_340 : BitVec 32 := 3#32
  let v658 : BitVec 32 := Scalar.shrsi v657 c3_i32_340
  let c8191_i32_341 : BitVec 32 := 8191#32
  let v659 : BitVec 32 := Scalar.andi v658 c8191_i32_341
  let c8_i32_342 : BitVec 32 := 8#32
  let v660 : BitVec 32 := Scalar.muli v659 c8_i32_342
  v660

def k0_off79 (v657 : BitVec 32) : Fin 2 → Nat :=
  let c3_i32_340 : BitVec 32 := 3#32
  let v658 : BitVec 32 := Scalar.shrsi v657 c3_i32_340
  let c8191_i32_341 : BitVec 32 := 8191#32
  let v659 : BitVec 32 := Scalar.andi v658 c8191_i32_341
  let c8_i32_342 : BitVec 32 := 8#32
  let v660 : BitVec 32 := Scalar.muli v659 c8_i32_342
  let v661 : BitVec 32 := v660
  let v662 : Index := Scalar.indexCast v661
  let c0_343 : Index := 0#32
  ![v662.toNat, 0]
def k0_off80 (v657 : BitVec 32) : Fin 2 → Nat :=
  let c3_i32_340 : BitVec 32 := 3#32
  let v658 : BitVec 32 := Scalar.shrsi v657 c3_i32_340
  let c8191_i32_341 : BitVec 32 := 8191#32
  let v659 : BitVec 32 := Scalar.andi v658 c8191_i32_341
  let v667 : Index := Scalar.indexCast v659
  let c0_345 : Index := 0#32
  ![v667.toNat, 0]

def k0_chk40 (i : grid0.Coords) (v657 : BitVec 32) : Prop :=
  (∀ (k0_h1 : k0_cond1 i = 1#1), 8 ∣ (k0_mult40 v657).toNat) ∧
  (∀ (k0_h1 : k0_cond1 i = 1#1), ∀ a, (k0_off79 v657) a + S8x128.size a ≤ S65536x128.size a) ∧
  (∀ (k0_h1 : k0_cond1 i = 1#1), ∀ a, (k0_off80 v657) a + S1x128.size a ≤ S8192x128.size a)
theorem k0_mult40_dvd : ∀ (i : grid0.Coords) (v657 : BitVec 32) (k0_hw40 : k0_chk40 i v657), ∀ (k0_h1 : k0_cond1 i = 1#1), 8 ∣ (k0_mult40 v657).toNat := fun i v657 k0_hw40 k0_h1 => k0_hw40.1 k0_h1
theorem k0_off79_inb : ∀ (i : grid0.Coords) (v657 : BitVec 32) (k0_hw40 : k0_chk40 i v657), ∀ (k0_h1 : k0_cond1 i = 1#1), ∀ a, (k0_off79 v657) a + S8x128.size a ≤ S65536x128.size a := fun i v657 k0_hw40 k0_h1 => k0_hw40.2.1 k0_h1
theorem k0_off80_inb : ∀ (i : grid0.Coords) (v657 : BitVec 32) (k0_hw40 : k0_chk40 i v657), ∀ (k0_h1 : k0_cond1 i = 1#1), ∀ a, (k0_off80 v657) a + S1x128.size a ≤ S8192x128.size a := fun i v657 k0_hw40 k0_h1 => k0_hw40.2.2 k0_h1

def k0_mult41 (v672 : BitVec 32) : BitVec 32 :=
  let c3_i32_349 : BitVec 32 := 3#32
  let v673 : BitVec 32 := Scalar.shrsi v672 c3_i32_349
  let c8191_i32_350 : BitVec 32 := 8191#32
  let v674 : BitVec 32 := Scalar.andi v673 c8191_i32_350
  let c8_i32_351 : BitVec 32 := 8#32
  let v675 : BitVec 32 := Scalar.muli v674 c8_i32_351
  v675

def k0_off81 (v672 : BitVec 32) : Fin 2 → Nat :=
  let c3_i32_349 : BitVec 32 := 3#32
  let v673 : BitVec 32 := Scalar.shrsi v672 c3_i32_349
  let c8191_i32_350 : BitVec 32 := 8191#32
  let v674 : BitVec 32 := Scalar.andi v673 c8191_i32_350
  let c8_i32_351 : BitVec 32 := 8#32
  let v675 : BitVec 32 := Scalar.muli v674 c8_i32_351
  let v676 : BitVec 32 := v675
  let v677 : Index := Scalar.indexCast v676
  let c0_352 : Index := 0#32
  ![v677.toNat, 0]
def k0_off82 (v672 : BitVec 32) : Fin 2 → Nat :=
  let c3_i32_349 : BitVec 32 := 3#32
  let v673 : BitVec 32 := Scalar.shrsi v672 c3_i32_349
  let c8191_i32_350 : BitVec 32 := 8191#32
  let v674 : BitVec 32 := Scalar.andi v673 c8191_i32_350
  let v682 : Index := Scalar.indexCast v674
  let c0_354 : Index := 0#32
  ![v682.toNat, 0]

def k0_chk41 (i : grid0.Coords) (v672 : BitVec 32) : Prop :=
  (∀ (k0_h1 : k0_cond1 i = 1#1), 8 ∣ (k0_mult41 v672).toNat) ∧
  (∀ (k0_h1 : k0_cond1 i = 1#1), ∀ a, (k0_off81 v672) a + S8x128.size a ≤ S65536x128.size a) ∧
  (∀ (k0_h1 : k0_cond1 i = 1#1), ∀ a, (k0_off82 v672) a + S1x128.size a ≤ S8192x128.size a)
theorem k0_mult41_dvd : ∀ (i : grid0.Coords) (v672 : BitVec 32) (k0_hw41 : k0_chk41 i v672), ∀ (k0_h1 : k0_cond1 i = 1#1), 8 ∣ (k0_mult41 v672).toNat := fun i v672 k0_hw41 k0_h1 => k0_hw41.1 k0_h1
theorem k0_off81_inb : ∀ (i : grid0.Coords) (v672 : BitVec 32) (k0_hw41 : k0_chk41 i v672), ∀ (k0_h1 : k0_cond1 i = 1#1), ∀ a, (k0_off81 v672) a + S8x128.size a ≤ S65536x128.size a := fun i v672 k0_hw41 k0_h1 => k0_hw41.2.1 k0_h1
theorem k0_off82_inb : ∀ (i : grid0.Coords) (v672 : BitVec 32) (k0_hw41 : k0_chk41 i v672), ∀ (k0_h1 : k0_cond1 i = 1#1), ∀ a, (k0_off82 v672) a + S1x128.size a ≤ S8192x128.size a := fun i v672 k0_hw41 k0_h1 => k0_hw41.2.2 k0_h1

def k0_mult42 (v687 : BitVec 32) : BitVec 32 :=
  let c3_i32_357 : BitVec 32 := 3#32
  let v688 : BitVec 32 := Scalar.shrsi v687 c3_i32_357
  let c8191_i32_358 : BitVec 32 := 8191#32
  let v689 : BitVec 32 := Scalar.andi v688 c8191_i32_358
  let c8_i32_359 : BitVec 32 := 8#32
  let v690 : BitVec 32 := Scalar.muli v689 c8_i32_359
  v690

def k0_off83 (v687 : BitVec 32) : Fin 2 → Nat :=
  let c3_i32_357 : BitVec 32 := 3#32
  let v688 : BitVec 32 := Scalar.shrsi v687 c3_i32_357
  let c8191_i32_358 : BitVec 32 := 8191#32
  let v689 : BitVec 32 := Scalar.andi v688 c8191_i32_358
  let c8_i32_359 : BitVec 32 := 8#32
  let v690 : BitVec 32 := Scalar.muli v689 c8_i32_359
  let v691 : BitVec 32 := v690
  let v692 : Index := Scalar.indexCast v691
  let c0_360 : Index := 0#32
  ![v692.toNat, 0]
def k0_off84 (v687 : BitVec 32) : Fin 2 → Nat :=
  let c3_i32_357 : BitVec 32 := 3#32
  let v688 : BitVec 32 := Scalar.shrsi v687 c3_i32_357
  let c8191_i32_358 : BitVec 32 := 8191#32
  let v689 : BitVec 32 := Scalar.andi v688 c8191_i32_358
  let v697 : Index := Scalar.indexCast v689
  let c0_362 : Index := 0#32
  ![v697.toNat, 0]

def k0_chk42 (i : grid0.Coords) (v687 : BitVec 32) : Prop :=
  (∀ (k0_h1 : k0_cond1 i = 1#1), 8 ∣ (k0_mult42 v687).toNat) ∧
  (∀ (k0_h1 : k0_cond1 i = 1#1), ∀ a, (k0_off83 v687) a + S8x128.size a ≤ S65536x128.size a) ∧
  (∀ (k0_h1 : k0_cond1 i = 1#1), ∀ a, (k0_off84 v687) a + S1x128.size a ≤ S8192x128.size a)
theorem k0_mult42_dvd : ∀ (i : grid0.Coords) (v687 : BitVec 32) (k0_hw42 : k0_chk42 i v687), ∀ (k0_h1 : k0_cond1 i = 1#1), 8 ∣ (k0_mult42 v687).toNat := fun i v687 k0_hw42 k0_h1 => k0_hw42.1 k0_h1
theorem k0_off83_inb : ∀ (i : grid0.Coords) (v687 : BitVec 32) (k0_hw42 : k0_chk42 i v687), ∀ (k0_h1 : k0_cond1 i = 1#1), ∀ a, (k0_off83 v687) a + S8x128.size a ≤ S65536x128.size a := fun i v687 k0_hw42 k0_h1 => k0_hw42.2.1 k0_h1
theorem k0_off84_inb : ∀ (i : grid0.Coords) (v687 : BitVec 32) (k0_hw42 : k0_chk42 i v687), ∀ (k0_h1 : k0_cond1 i = 1#1), ∀ a, (k0_off84 v687) a + S1x128.size a ≤ S8192x128.size a := fun i v687 k0_hw42 k0_h1 => k0_hw42.2.2 k0_h1

def k0_mult43 (v702 : BitVec 32) : BitVec 32 :=
  let c3_i32_365 : BitVec 32 := 3#32
  let v703 : BitVec 32 := Scalar.shrsi v702 c3_i32_365
  let c8191_i32_366 : BitVec 32 := 8191#32
  let v704 : BitVec 32 := Scalar.andi v703 c8191_i32_366
  let c8_i32_367 : BitVec 32 := 8#32
  let v705 : BitVec 32 := Scalar.muli v704 c8_i32_367
  v705

def k0_off85 (v702 : BitVec 32) : Fin 2 → Nat :=
  let c3_i32_365 : BitVec 32 := 3#32
  let v703 : BitVec 32 := Scalar.shrsi v702 c3_i32_365
  let c8191_i32_366 : BitVec 32 := 8191#32
  let v704 : BitVec 32 := Scalar.andi v703 c8191_i32_366
  let c8_i32_367 : BitVec 32 := 8#32
  let v705 : BitVec 32 := Scalar.muli v704 c8_i32_367
  let v706 : BitVec 32 := v705
  let v707 : Index := Scalar.indexCast v706
  let c0_368 : Index := 0#32
  ![v707.toNat, 0]
def k0_off86 (v702 : BitVec 32) : Fin 2 → Nat :=
  let c3_i32_365 : BitVec 32 := 3#32
  let v703 : BitVec 32 := Scalar.shrsi v702 c3_i32_365
  let c8191_i32_366 : BitVec 32 := 8191#32
  let v704 : BitVec 32 := Scalar.andi v703 c8191_i32_366
  let v712 : Index := Scalar.indexCast v704
  let c0_370 : Index := 0#32
  ![v712.toNat, 0]

def k0_chk43 (i : grid0.Coords) (v702 : BitVec 32) : Prop :=
  (∀ (k0_h1 : k0_cond1 i = 1#1), 8 ∣ (k0_mult43 v702).toNat) ∧
  (∀ (k0_h1 : k0_cond1 i = 1#1), ∀ a, (k0_off85 v702) a + S8x128.size a ≤ S65536x128.size a) ∧
  (∀ (k0_h1 : k0_cond1 i = 1#1), ∀ a, (k0_off86 v702) a + S1x128.size a ≤ S8192x128.size a)
theorem k0_mult43_dvd : ∀ (i : grid0.Coords) (v702 : BitVec 32) (k0_hw43 : k0_chk43 i v702), ∀ (k0_h1 : k0_cond1 i = 1#1), 8 ∣ (k0_mult43 v702).toNat := fun i v702 k0_hw43 k0_h1 => k0_hw43.1 k0_h1
theorem k0_off85_inb : ∀ (i : grid0.Coords) (v702 : BitVec 32) (k0_hw43 : k0_chk43 i v702), ∀ (k0_h1 : k0_cond1 i = 1#1), ∀ a, (k0_off85 v702) a + S8x128.size a ≤ S65536x128.size a := fun i v702 k0_hw43 k0_h1 => k0_hw43.2.1 k0_h1
theorem k0_off86_inb : ∀ (i : grid0.Coords) (v702 : BitVec 32) (k0_hw43 : k0_chk43 i v702), ∀ (k0_h1 : k0_cond1 i = 1#1), ∀ a, (k0_off86 v702) a + S1x128.size a ≤ S8192x128.size a := fun i v702 k0_hw43 k0_h1 => k0_hw43.2.2 k0_h1

def k0_mult44 (v717 : BitVec 32) : BitVec 32 :=
  let c3_i32_373 : BitVec 32 := 3#32
  let v718 : BitVec 32 := Scalar.shrsi v717 c3_i32_373
  let c8191_i32_374 : BitVec 32 := 8191#32
  let v719 : BitVec 32 := Scalar.andi v718 c8191_i32_374
  let c8_i32_375 : BitVec 32 := 8#32
  let v720 : BitVec 32 := Scalar.muli v719 c8_i32_375
  v720

def k0_off87 (v717 : BitVec 32) : Fin 2 → Nat :=
  let c3_i32_373 : BitVec 32 := 3#32
  let v718 : BitVec 32 := Scalar.shrsi v717 c3_i32_373
  let c8191_i32_374 : BitVec 32 := 8191#32
  let v719 : BitVec 32 := Scalar.andi v718 c8191_i32_374
  let c8_i32_375 : BitVec 32 := 8#32
  let v720 : BitVec 32 := Scalar.muli v719 c8_i32_375
  let v721 : BitVec 32 := v720
  let v722 : Index := Scalar.indexCast v721
  let c0_376 : Index := 0#32
  ![v722.toNat, 0]
def k0_off88 (v717 : BitVec 32) : Fin 2 → Nat :=
  let c3_i32_373 : BitVec 32 := 3#32
  let v718 : BitVec 32 := Scalar.shrsi v717 c3_i32_373
  let c8191_i32_374 : BitVec 32 := 8191#32
  let v719 : BitVec 32 := Scalar.andi v718 c8191_i32_374
  let v727 : Index := Scalar.indexCast v719
  let c0_378 : Index := 0#32
  ![v727.toNat, 0]

def k0_chk44 (i : grid0.Coords) (v717 : BitVec 32) : Prop :=
  (∀ (k0_h1 : k0_cond1 i = 1#1), 8 ∣ (k0_mult44 v717).toNat) ∧
  (∀ (k0_h1 : k0_cond1 i = 1#1), ∀ a, (k0_off87 v717) a + S8x128.size a ≤ S65536x128.size a) ∧
  (∀ (k0_h1 : k0_cond1 i = 1#1), ∀ a, (k0_off88 v717) a + S1x128.size a ≤ S8192x128.size a)
theorem k0_mult44_dvd : ∀ (i : grid0.Coords) (v717 : BitVec 32) (k0_hw44 : k0_chk44 i v717), ∀ (k0_h1 : k0_cond1 i = 1#1), 8 ∣ (k0_mult44 v717).toNat := fun i v717 k0_hw44 k0_h1 => k0_hw44.1 k0_h1
theorem k0_off87_inb : ∀ (i : grid0.Coords) (v717 : BitVec 32) (k0_hw44 : k0_chk44 i v717), ∀ (k0_h1 : k0_cond1 i = 1#1), ∀ a, (k0_off87 v717) a + S8x128.size a ≤ S65536x128.size a := fun i v717 k0_hw44 k0_h1 => k0_hw44.2.1 k0_h1
theorem k0_off88_inb : ∀ (i : grid0.Coords) (v717 : BitVec 32) (k0_hw44 : k0_chk44 i v717), ∀ (k0_h1 : k0_cond1 i = 1#1), ∀ a, (k0_off88 v717) a + S1x128.size a ≤ S8192x128.size a := fun i v717 k0_hw44 k0_h1 => k0_hw44.2.2 k0_h1

def k0_mult45 (v732 : BitVec 32) : BitVec 32 :=
  let c3_i32_381 : BitVec 32 := 3#32
  let v733 : BitVec 32 := Scalar.shrsi v732 c3_i32_381
  let c8191_i32_382 : BitVec 32 := 8191#32
  let v734 : BitVec 32 := Scalar.andi v733 c8191_i32_382
  let c8_i32_383 : BitVec 32 := 8#32
  let v735 : BitVec 32 := Scalar.muli v734 c8_i32_383
  v735

def k0_off89 (v732 : BitVec 32) : Fin 2 → Nat :=
  let c3_i32_381 : BitVec 32 := 3#32
  let v733 : BitVec 32 := Scalar.shrsi v732 c3_i32_381
  let c8191_i32_382 : BitVec 32 := 8191#32
  let v734 : BitVec 32 := Scalar.andi v733 c8191_i32_382
  let c8_i32_383 : BitVec 32 := 8#32
  let v735 : BitVec 32 := Scalar.muli v734 c8_i32_383
  let v736 : BitVec 32 := v735
  let v737 : Index := Scalar.indexCast v736
  let c0_384 : Index := 0#32
  ![v737.toNat, 0]
def k0_off90 (v732 : BitVec 32) : Fin 2 → Nat :=
  let c3_i32_381 : BitVec 32 := 3#32
  let v733 : BitVec 32 := Scalar.shrsi v732 c3_i32_381
  let c8191_i32_382 : BitVec 32 := 8191#32
  let v734 : BitVec 32 := Scalar.andi v733 c8191_i32_382
  let v742 : Index := Scalar.indexCast v734
  let c0_386 : Index := 0#32
  ![v742.toNat, 0]

def k0_chk45 (i : grid0.Coords) (v732 : BitVec 32) : Prop :=
  (∀ (k0_h1 : k0_cond1 i = 1#1), 8 ∣ (k0_mult45 v732).toNat) ∧
  (∀ (k0_h1 : k0_cond1 i = 1#1), ∀ a, (k0_off89 v732) a + S8x128.size a ≤ S65536x128.size a) ∧
  (∀ (k0_h1 : k0_cond1 i = 1#1), ∀ a, (k0_off90 v732) a + S1x128.size a ≤ S8192x128.size a)
theorem k0_mult45_dvd : ∀ (i : grid0.Coords) (v732 : BitVec 32) (k0_hw45 : k0_chk45 i v732), ∀ (k0_h1 : k0_cond1 i = 1#1), 8 ∣ (k0_mult45 v732).toNat := fun i v732 k0_hw45 k0_h1 => k0_hw45.1 k0_h1
theorem k0_off89_inb : ∀ (i : grid0.Coords) (v732 : BitVec 32) (k0_hw45 : k0_chk45 i v732), ∀ (k0_h1 : k0_cond1 i = 1#1), ∀ a, (k0_off89 v732) a + S8x128.size a ≤ S65536x128.size a := fun i v732 k0_hw45 k0_h1 => k0_hw45.2.1 k0_h1
theorem k0_off90_inb : ∀ (i : grid0.Coords) (v732 : BitVec 32) (k0_hw45 : k0_chk45 i v732), ∀ (k0_h1 : k0_cond1 i = 1#1), ∀ a, (k0_off90 v732) a + S1x128.size a ≤ S8192x128.size a := fun i v732 k0_hw45 k0_h1 => k0_hw45.2.2 k0_h1

def k0_mult46 (v747 : BitVec 32) : BitVec 32 :=
  let c3_i32_389 : BitVec 32 := 3#32
  let v748 : BitVec 32 := Scalar.shrsi v747 c3_i32_389
  let c8191_i32_390 : BitVec 32 := 8191#32
  let v749 : BitVec 32 := Scalar.andi v748 c8191_i32_390
  let c8_i32_391 : BitVec 32 := 8#32
  let v750 : BitVec 32 := Scalar.muli v749 c8_i32_391
  v750

def k0_off91 (v747 : BitVec 32) : Fin 2 → Nat :=
  let c3_i32_389 : BitVec 32 := 3#32
  let v748 : BitVec 32 := Scalar.shrsi v747 c3_i32_389
  let c8191_i32_390 : BitVec 32 := 8191#32
  let v749 : BitVec 32 := Scalar.andi v748 c8191_i32_390
  let c8_i32_391 : BitVec 32 := 8#32
  let v750 : BitVec 32 := Scalar.muli v749 c8_i32_391
  let v751 : BitVec 32 := v750
  let v752 : Index := Scalar.indexCast v751
  let c0_392 : Index := 0#32
  ![v752.toNat, 0]
def k0_off92 (v747 : BitVec 32) : Fin 2 → Nat :=
  let c3_i32_389 : BitVec 32 := 3#32
  let v748 : BitVec 32 := Scalar.shrsi v747 c3_i32_389
  let c8191_i32_390 : BitVec 32 := 8191#32
  let v749 : BitVec 32 := Scalar.andi v748 c8191_i32_390
  let v757 : Index := Scalar.indexCast v749
  let c0_394 : Index := 0#32
  ![v757.toNat, 0]

def k0_chk46 (i : grid0.Coords) (v747 : BitVec 32) : Prop :=
  (∀ (k0_h1 : k0_cond1 i = 1#1), 8 ∣ (k0_mult46 v747).toNat) ∧
  (∀ (k0_h1 : k0_cond1 i = 1#1), ∀ a, (k0_off91 v747) a + S8x128.size a ≤ S65536x128.size a) ∧
  (∀ (k0_h1 : k0_cond1 i = 1#1), ∀ a, (k0_off92 v747) a + S1x128.size a ≤ S8192x128.size a)
theorem k0_mult46_dvd : ∀ (i : grid0.Coords) (v747 : BitVec 32) (k0_hw46 : k0_chk46 i v747), ∀ (k0_h1 : k0_cond1 i = 1#1), 8 ∣ (k0_mult46 v747).toNat := fun i v747 k0_hw46 k0_h1 => k0_hw46.1 k0_h1
theorem k0_off91_inb : ∀ (i : grid0.Coords) (v747 : BitVec 32) (k0_hw46 : k0_chk46 i v747), ∀ (k0_h1 : k0_cond1 i = 1#1), ∀ a, (k0_off91 v747) a + S8x128.size a ≤ S65536x128.size a := fun i v747 k0_hw46 k0_h1 => k0_hw46.2.1 k0_h1
theorem k0_off92_inb : ∀ (i : grid0.Coords) (v747 : BitVec 32) (k0_hw46 : k0_chk46 i v747), ∀ (k0_h1 : k0_cond1 i = 1#1), ∀ a, (k0_off92 v747) a + S1x128.size a ≤ S8192x128.size a := fun i v747 k0_hw46 k0_h1 => k0_hw46.2.2 k0_h1

def k0_mult47 (v762 : BitVec 32) : BitVec 32 :=
  let c3_i32_397 : BitVec 32 := 3#32
  let v763 : BitVec 32 := Scalar.shrsi v762 c3_i32_397
  let c8191_i32_398 : BitVec 32 := 8191#32
  let v764 : BitVec 32 := Scalar.andi v763 c8191_i32_398
  let c8_i32_399 : BitVec 32 := 8#32
  let v765 : BitVec 32 := Scalar.muli v764 c8_i32_399
  v765

def k0_off93 (v762 : BitVec 32) : Fin 2 → Nat :=
  let c3_i32_397 : BitVec 32 := 3#32
  let v763 : BitVec 32 := Scalar.shrsi v762 c3_i32_397
  let c8191_i32_398 : BitVec 32 := 8191#32
  let v764 : BitVec 32 := Scalar.andi v763 c8191_i32_398
  let c8_i32_399 : BitVec 32 := 8#32
  let v765 : BitVec 32 := Scalar.muli v764 c8_i32_399
  let v766 : BitVec 32 := v765
  let v767 : Index := Scalar.indexCast v766
  let c0_400 : Index := 0#32
  ![v767.toNat, 0]
def k0_off94 (v762 : BitVec 32) : Fin 2 → Nat :=
  let c3_i32_397 : BitVec 32 := 3#32
  let v763 : BitVec 32 := Scalar.shrsi v762 c3_i32_397
  let c8191_i32_398 : BitVec 32 := 8191#32
  let v764 : BitVec 32 := Scalar.andi v763 c8191_i32_398
  let v772 : Index := Scalar.indexCast v764
  let c0_402 : Index := 0#32
  ![v772.toNat, 0]

def k0_chk47 (i : grid0.Coords) (v762 : BitVec 32) : Prop :=
  (∀ (k0_h1 : k0_cond1 i = 1#1), 8 ∣ (k0_mult47 v762).toNat) ∧
  (∀ (k0_h1 : k0_cond1 i = 1#1), ∀ a, (k0_off93 v762) a + S8x128.size a ≤ S65536x128.size a) ∧
  (∀ (k0_h1 : k0_cond1 i = 1#1), ∀ a, (k0_off94 v762) a + S1x128.size a ≤ S8192x128.size a)
theorem k0_mult47_dvd : ∀ (i : grid0.Coords) (v762 : BitVec 32) (k0_hw47 : k0_chk47 i v762), ∀ (k0_h1 : k0_cond1 i = 1#1), 8 ∣ (k0_mult47 v762).toNat := fun i v762 k0_hw47 k0_h1 => k0_hw47.1 k0_h1
theorem k0_off93_inb : ∀ (i : grid0.Coords) (v762 : BitVec 32) (k0_hw47 : k0_chk47 i v762), ∀ (k0_h1 : k0_cond1 i = 1#1), ∀ a, (k0_off93 v762) a + S8x128.size a ≤ S65536x128.size a := fun i v762 k0_hw47 k0_h1 => k0_hw47.2.1 k0_h1
theorem k0_off94_inb : ∀ (i : grid0.Coords) (v762 : BitVec 32) (k0_hw47 : k0_chk47 i v762), ∀ (k0_h1 : k0_cond1 i = 1#1), ∀ a, (k0_off94 v762) a + S1x128.size a ≤ S8192x128.size a := fun i v762 k0_hw47 k0_h1 => k0_hw47.2.2 k0_h1

def k0_mult48 (v777 : BitVec 32) : BitVec 32 :=
  let c3_i32_405 : BitVec 32 := 3#32
  let v778 : BitVec 32 := Scalar.shrsi v777 c3_i32_405
  let c8191_i32_406 : BitVec 32 := 8191#32
  let v779 : BitVec 32 := Scalar.andi v778 c8191_i32_406
  let c8_i32_407 : BitVec 32 := 8#32
  let v780 : BitVec 32 := Scalar.muli v779 c8_i32_407
  v780

def k0_off95 (v777 : BitVec 32) : Fin 2 → Nat :=
  let c3_i32_405 : BitVec 32 := 3#32
  let v778 : BitVec 32 := Scalar.shrsi v777 c3_i32_405
  let c8191_i32_406 : BitVec 32 := 8191#32
  let v779 : BitVec 32 := Scalar.andi v778 c8191_i32_406
  let c8_i32_407 : BitVec 32 := 8#32
  let v780 : BitVec 32 := Scalar.muli v779 c8_i32_407
  let v781 : BitVec 32 := v780
  let v782 : Index := Scalar.indexCast v781
  let c0_408 : Index := 0#32
  ![v782.toNat, 0]
def k0_off96 (v777 : BitVec 32) : Fin 2 → Nat :=
  let c3_i32_405 : BitVec 32 := 3#32
  let v778 : BitVec 32 := Scalar.shrsi v777 c3_i32_405
  let c8191_i32_406 : BitVec 32 := 8191#32
  let v779 : BitVec 32 := Scalar.andi v778 c8191_i32_406
  let v787 : Index := Scalar.indexCast v779
  let c0_410 : Index := 0#32
  ![v787.toNat, 0]

def k0_chk48 (i : grid0.Coords) (v777 : BitVec 32) : Prop :=
  (∀ (k0_h1 : k0_cond1 i = 1#1), 8 ∣ (k0_mult48 v777).toNat) ∧
  (∀ (k0_h1 : k0_cond1 i = 1#1), ∀ a, (k0_off95 v777) a + S8x128.size a ≤ S65536x128.size a) ∧
  (∀ (k0_h1 : k0_cond1 i = 1#1), ∀ a, (k0_off96 v777) a + S1x128.size a ≤ S8192x128.size a)
theorem k0_mult48_dvd : ∀ (i : grid0.Coords) (v777 : BitVec 32) (k0_hw48 : k0_chk48 i v777), ∀ (k0_h1 : k0_cond1 i = 1#1), 8 ∣ (k0_mult48 v777).toNat := fun i v777 k0_hw48 k0_h1 => k0_hw48.1 k0_h1
theorem k0_off95_inb : ∀ (i : grid0.Coords) (v777 : BitVec 32) (k0_hw48 : k0_chk48 i v777), ∀ (k0_h1 : k0_cond1 i = 1#1), ∀ a, (k0_off95 v777) a + S8x128.size a ≤ S65536x128.size a := fun i v777 k0_hw48 k0_h1 => k0_hw48.2.1 k0_h1
theorem k0_off96_inb : ∀ (i : grid0.Coords) (v777 : BitVec 32) (k0_hw48 : k0_chk48 i v777), ∀ (k0_h1 : k0_cond1 i = 1#1), ∀ a, (k0_off96 v777) a + S1x128.size a ≤ S8192x128.size a := fun i v777 k0_hw48 k0_h1 => k0_hw48.2.2 k0_h1

def k0_mult49 (v792 : BitVec 32) : BitVec 32 :=
  let c3_i32_414 : BitVec 32 := 3#32
  let v793 : BitVec 32 := Scalar.shrsi v792 c3_i32_414
  let c8191_i32_415 : BitVec 32 := 8191#32
  let v794 : BitVec 32 := Scalar.andi v793 c8191_i32_415
  let c8_i32_416 : BitVec 32 := 8#32
  let v795 : BitVec 32 := Scalar.muli v794 c8_i32_416
  v795

def k0_off97 (v792 : BitVec 32) : Fin 2 → Nat :=
  let c3_i32_414 : BitVec 32 := 3#32
  let v793 : BitVec 32 := Scalar.shrsi v792 c3_i32_414
  let c8191_i32_415 : BitVec 32 := 8191#32
  let v794 : BitVec 32 := Scalar.andi v793 c8191_i32_415
  let c8_i32_416 : BitVec 32 := 8#32
  let v795 : BitVec 32 := Scalar.muli v794 c8_i32_416
  let v796 : BitVec 32 := v795
  let v797 : Index := Scalar.indexCast v796
  let c0_417 : Index := 0#32
  ![v797.toNat, 0]
def k0_off98 (v792 : BitVec 32) : Fin 2 → Nat :=
  let c3_i32_414 : BitVec 32 := 3#32
  let v793 : BitVec 32 := Scalar.shrsi v792 c3_i32_414
  let c8191_i32_415 : BitVec 32 := 8191#32
  let v794 : BitVec 32 := Scalar.andi v793 c8191_i32_415
  let v802 : Index := Scalar.indexCast v794
  let c0_419 : Index := 0#32
  ![v802.toNat, 0]

def k0_chk49 (i : grid0.Coords) (v792 : BitVec 32) : Prop :=
  (∀ (k0_h1 : k0_cond1 i = 1#1), 8 ∣ (k0_mult49 v792).toNat) ∧
  (∀ (k0_h1 : k0_cond1 i = 1#1), ∀ a, (k0_off97 v792) a + S8x128.size a ≤ S65536x128.size a) ∧
  (∀ (k0_h1 : k0_cond1 i = 1#1), ∀ a, (k0_off98 v792) a + S1x128.size a ≤ S8192x128.size a)
theorem k0_mult49_dvd : ∀ (i : grid0.Coords) (v792 : BitVec 32) (k0_hw49 : k0_chk49 i v792), ∀ (k0_h1 : k0_cond1 i = 1#1), 8 ∣ (k0_mult49 v792).toNat := fun i v792 k0_hw49 k0_h1 => k0_hw49.1 k0_h1
theorem k0_off97_inb : ∀ (i : grid0.Coords) (v792 : BitVec 32) (k0_hw49 : k0_chk49 i v792), ∀ (k0_h1 : k0_cond1 i = 1#1), ∀ a, (k0_off97 v792) a + S8x128.size a ≤ S65536x128.size a := fun i v792 k0_hw49 k0_h1 => k0_hw49.2.1 k0_h1
theorem k0_off98_inb : ∀ (i : grid0.Coords) (v792 : BitVec 32) (k0_hw49 : k0_chk49 i v792), ∀ (k0_h1 : k0_cond1 i = 1#1), ∀ a, (k0_off98 v792) a + S1x128.size a ≤ S8192x128.size a := fun i v792 k0_hw49 k0_h1 => k0_hw49.2.2 k0_h1

def k0_mult50 (v807 : BitVec 32) : BitVec 32 :=
  let c3_i32_422 : BitVec 32 := 3#32
  let v808 : BitVec 32 := Scalar.shrsi v807 c3_i32_422
  let c8191_i32_423 : BitVec 32 := 8191#32
  let v809 : BitVec 32 := Scalar.andi v808 c8191_i32_423
  let c8_i32_424 : BitVec 32 := 8#32
  let v810 : BitVec 32 := Scalar.muli v809 c8_i32_424
  v810

def k0_off99 (v807 : BitVec 32) : Fin 2 → Nat :=
  let c3_i32_422 : BitVec 32 := 3#32
  let v808 : BitVec 32 := Scalar.shrsi v807 c3_i32_422
  let c8191_i32_423 : BitVec 32 := 8191#32
  let v809 : BitVec 32 := Scalar.andi v808 c8191_i32_423
  let c8_i32_424 : BitVec 32 := 8#32
  let v810 : BitVec 32 := Scalar.muli v809 c8_i32_424
  let v811 : BitVec 32 := v810
  let v812 : Index := Scalar.indexCast v811
  let c0_425 : Index := 0#32
  ![v812.toNat, 0]
def k0_off100 (v807 : BitVec 32) : Fin 2 → Nat :=
  let c3_i32_422 : BitVec 32 := 3#32
  let v808 : BitVec 32 := Scalar.shrsi v807 c3_i32_422
  let c8191_i32_423 : BitVec 32 := 8191#32
  let v809 : BitVec 32 := Scalar.andi v808 c8191_i32_423
  let v817 : Index := Scalar.indexCast v809
  let c0_427 : Index := 0#32
  ![v817.toNat, 0]

def k0_chk50 (i : grid0.Coords) (v807 : BitVec 32) : Prop :=
  (∀ (k0_h1 : k0_cond1 i = 1#1), 8 ∣ (k0_mult50 v807).toNat) ∧
  (∀ (k0_h1 : k0_cond1 i = 1#1), ∀ a, (k0_off99 v807) a + S8x128.size a ≤ S65536x128.size a) ∧
  (∀ (k0_h1 : k0_cond1 i = 1#1), ∀ a, (k0_off100 v807) a + S1x128.size a ≤ S8192x128.size a)
theorem k0_mult50_dvd : ∀ (i : grid0.Coords) (v807 : BitVec 32) (k0_hw50 : k0_chk50 i v807), ∀ (k0_h1 : k0_cond1 i = 1#1), 8 ∣ (k0_mult50 v807).toNat := fun i v807 k0_hw50 k0_h1 => k0_hw50.1 k0_h1
theorem k0_off99_inb : ∀ (i : grid0.Coords) (v807 : BitVec 32) (k0_hw50 : k0_chk50 i v807), ∀ (k0_h1 : k0_cond1 i = 1#1), ∀ a, (k0_off99 v807) a + S8x128.size a ≤ S65536x128.size a := fun i v807 k0_hw50 k0_h1 => k0_hw50.2.1 k0_h1
theorem k0_off100_inb : ∀ (i : grid0.Coords) (v807 : BitVec 32) (k0_hw50 : k0_chk50 i v807), ∀ (k0_h1 : k0_cond1 i = 1#1), ∀ a, (k0_off100 v807) a + S1x128.size a ≤ S8192x128.size a := fun i v807 k0_hw50 k0_h1 => k0_hw50.2.2 k0_h1

def k0_mult51 (v822 : BitVec 32) : BitVec 32 :=
  let c3_i32_430 : BitVec 32 := 3#32
  let v823 : BitVec 32 := Scalar.shrsi v822 c3_i32_430
  let c8191_i32_431 : BitVec 32 := 8191#32
  let v824 : BitVec 32 := Scalar.andi v823 c8191_i32_431
  let c8_i32_432 : BitVec 32 := 8#32
  let v825 : BitVec 32 := Scalar.muli v824 c8_i32_432
  v825

def k0_off101 (v822 : BitVec 32) : Fin 2 → Nat :=
  let c3_i32_430 : BitVec 32 := 3#32
  let v823 : BitVec 32 := Scalar.shrsi v822 c3_i32_430
  let c8191_i32_431 : BitVec 32 := 8191#32
  let v824 : BitVec 32 := Scalar.andi v823 c8191_i32_431
  let c8_i32_432 : BitVec 32 := 8#32
  let v825 : BitVec 32 := Scalar.muli v824 c8_i32_432
  let v826 : BitVec 32 := v825
  let v827 : Index := Scalar.indexCast v826
  let c0_433 : Index := 0#32
  ![v827.toNat, 0]
def k0_off102 (v822 : BitVec 32) : Fin 2 → Nat :=
  let c3_i32_430 : BitVec 32 := 3#32
  let v823 : BitVec 32 := Scalar.shrsi v822 c3_i32_430
  let c8191_i32_431 : BitVec 32 := 8191#32
  let v824 : BitVec 32 := Scalar.andi v823 c8191_i32_431
  let v832 : Index := Scalar.indexCast v824
  let c0_435 : Index := 0#32
  ![v832.toNat, 0]

def k0_chk51 (i : grid0.Coords) (v822 : BitVec 32) : Prop :=
  (∀ (k0_h1 : k0_cond1 i = 1#1), 8 ∣ (k0_mult51 v822).toNat) ∧
  (∀ (k0_h1 : k0_cond1 i = 1#1), ∀ a, (k0_off101 v822) a + S8x128.size a ≤ S65536x128.size a) ∧
  (∀ (k0_h1 : k0_cond1 i = 1#1), ∀ a, (k0_off102 v822) a + S1x128.size a ≤ S8192x128.size a)
theorem k0_mult51_dvd : ∀ (i : grid0.Coords) (v822 : BitVec 32) (k0_hw51 : k0_chk51 i v822), ∀ (k0_h1 : k0_cond1 i = 1#1), 8 ∣ (k0_mult51 v822).toNat := fun i v822 k0_hw51 k0_h1 => k0_hw51.1 k0_h1
theorem k0_off101_inb : ∀ (i : grid0.Coords) (v822 : BitVec 32) (k0_hw51 : k0_chk51 i v822), ∀ (k0_h1 : k0_cond1 i = 1#1), ∀ a, (k0_off101 v822) a + S8x128.size a ≤ S65536x128.size a := fun i v822 k0_hw51 k0_h1 => k0_hw51.2.1 k0_h1
theorem k0_off102_inb : ∀ (i : grid0.Coords) (v822 : BitVec 32) (k0_hw51 : k0_chk51 i v822), ∀ (k0_h1 : k0_cond1 i = 1#1), ∀ a, (k0_off102 v822) a + S1x128.size a ≤ S8192x128.size a := fun i v822 k0_hw51 k0_h1 => k0_hw51.2.2 k0_h1

def k0_mult52 (v837 : BitVec 32) : BitVec 32 :=
  let c3_i32_438 : BitVec 32 := 3#32
  let v838 : BitVec 32 := Scalar.shrsi v837 c3_i32_438
  let c8191_i32_439 : BitVec 32 := 8191#32
  let v839 : BitVec 32 := Scalar.andi v838 c8191_i32_439
  let c8_i32_440 : BitVec 32 := 8#32
  let v840 : BitVec 32 := Scalar.muli v839 c8_i32_440
  v840

def k0_off103 (v837 : BitVec 32) : Fin 2 → Nat :=
  let c3_i32_438 : BitVec 32 := 3#32
  let v838 : BitVec 32 := Scalar.shrsi v837 c3_i32_438
  let c8191_i32_439 : BitVec 32 := 8191#32
  let v839 : BitVec 32 := Scalar.andi v838 c8191_i32_439
  let c8_i32_440 : BitVec 32 := 8#32
  let v840 : BitVec 32 := Scalar.muli v839 c8_i32_440
  let v841 : BitVec 32 := v840
  let v842 : Index := Scalar.indexCast v841
  let c0_441 : Index := 0#32
  ![v842.toNat, 0]
def k0_off104 (v837 : BitVec 32) : Fin 2 → Nat :=
  let c3_i32_438 : BitVec 32 := 3#32
  let v838 : BitVec 32 := Scalar.shrsi v837 c3_i32_438
  let c8191_i32_439 : BitVec 32 := 8191#32
  let v839 : BitVec 32 := Scalar.andi v838 c8191_i32_439
  let v847 : Index := Scalar.indexCast v839
  let c0_443 : Index := 0#32
  ![v847.toNat, 0]

def k0_chk52 (i : grid0.Coords) (v837 : BitVec 32) : Prop :=
  (∀ (k0_h1 : k0_cond1 i = 1#1), 8 ∣ (k0_mult52 v837).toNat) ∧
  (∀ (k0_h1 : k0_cond1 i = 1#1), ∀ a, (k0_off103 v837) a + S8x128.size a ≤ S65536x128.size a) ∧
  (∀ (k0_h1 : k0_cond1 i = 1#1), ∀ a, (k0_off104 v837) a + S1x128.size a ≤ S8192x128.size a)
theorem k0_mult52_dvd : ∀ (i : grid0.Coords) (v837 : BitVec 32) (k0_hw52 : k0_chk52 i v837), ∀ (k0_h1 : k0_cond1 i = 1#1), 8 ∣ (k0_mult52 v837).toNat := fun i v837 k0_hw52 k0_h1 => k0_hw52.1 k0_h1
theorem k0_off103_inb : ∀ (i : grid0.Coords) (v837 : BitVec 32) (k0_hw52 : k0_chk52 i v837), ∀ (k0_h1 : k0_cond1 i = 1#1), ∀ a, (k0_off103 v837) a + S8x128.size a ≤ S65536x128.size a := fun i v837 k0_hw52 k0_h1 => k0_hw52.2.1 k0_h1
theorem k0_off104_inb : ∀ (i : grid0.Coords) (v837 : BitVec 32) (k0_hw52 : k0_chk52 i v837), ∀ (k0_h1 : k0_cond1 i = 1#1), ∀ a, (k0_off104 v837) a + S1x128.size a ≤ S8192x128.size a := fun i v837 k0_hw52 k0_h1 => k0_hw52.2.2 k0_h1

def k0_mult53 (v852 : BitVec 32) : BitVec 32 :=
  let c3_i32_446 : BitVec 32 := 3#32
  let v853 : BitVec 32 := Scalar.shrsi v852 c3_i32_446
  let c8191_i32_447 : BitVec 32 := 8191#32
  let v854 : BitVec 32 := Scalar.andi v853 c8191_i32_447
  let c8_i32_448 : BitVec 32 := 8#32
  let v855 : BitVec 32 := Scalar.muli v854 c8_i32_448
  v855

def k0_off105 (v852 : BitVec 32) : Fin 2 → Nat :=
  let c3_i32_446 : BitVec 32 := 3#32
  let v853 : BitVec 32 := Scalar.shrsi v852 c3_i32_446
  let c8191_i32_447 : BitVec 32 := 8191#32
  let v854 : BitVec 32 := Scalar.andi v853 c8191_i32_447
  let c8_i32_448 : BitVec 32 := 8#32
  let v855 : BitVec 32 := Scalar.muli v854 c8_i32_448
  let v856 : BitVec 32 := v855
  let v857 : Index := Scalar.indexCast v856
  let c0_449 : Index := 0#32
  ![v857.toNat, 0]
def k0_off106 (v852 : BitVec 32) : Fin 2 → Nat :=
  let c3_i32_446 : BitVec 32 := 3#32
  let v853 : BitVec 32 := Scalar.shrsi v852 c3_i32_446
  let c8191_i32_447 : BitVec 32 := 8191#32
  let v854 : BitVec 32 := Scalar.andi v853 c8191_i32_447
  let v862 : Index := Scalar.indexCast v854
  let c0_451 : Index := 0#32
  ![v862.toNat, 0]

def k0_chk53 (i : grid0.Coords) (v852 : BitVec 32) : Prop :=
  (∀ (k0_h1 : k0_cond1 i = 1#1), 8 ∣ (k0_mult53 v852).toNat) ∧
  (∀ (k0_h1 : k0_cond1 i = 1#1), ∀ a, (k0_off105 v852) a + S8x128.size a ≤ S65536x128.size a) ∧
  (∀ (k0_h1 : k0_cond1 i = 1#1), ∀ a, (k0_off106 v852) a + S1x128.size a ≤ S8192x128.size a)
theorem k0_mult53_dvd : ∀ (i : grid0.Coords) (v852 : BitVec 32) (k0_hw53 : k0_chk53 i v852), ∀ (k0_h1 : k0_cond1 i = 1#1), 8 ∣ (k0_mult53 v852).toNat := fun i v852 k0_hw53 k0_h1 => k0_hw53.1 k0_h1
theorem k0_off105_inb : ∀ (i : grid0.Coords) (v852 : BitVec 32) (k0_hw53 : k0_chk53 i v852), ∀ (k0_h1 : k0_cond1 i = 1#1), ∀ a, (k0_off105 v852) a + S8x128.size a ≤ S65536x128.size a := fun i v852 k0_hw53 k0_h1 => k0_hw53.2.1 k0_h1
theorem k0_off106_inb : ∀ (i : grid0.Coords) (v852 : BitVec 32) (k0_hw53 : k0_chk53 i v852), ∀ (k0_h1 : k0_cond1 i = 1#1), ∀ a, (k0_off106 v852) a + S1x128.size a ≤ S8192x128.size a := fun i v852 k0_hw53 k0_h1 => k0_hw53.2.2 k0_h1

def k0_mult54 (v867 : BitVec 32) : BitVec 32 :=
  let c3_i32_454 : BitVec 32 := 3#32
  let v868 : BitVec 32 := Scalar.shrsi v867 c3_i32_454
  let c8191_i32_455 : BitVec 32 := 8191#32
  let v869 : BitVec 32 := Scalar.andi v868 c8191_i32_455
  let c8_i32_456 : BitVec 32 := 8#32
  let v870 : BitVec 32 := Scalar.muli v869 c8_i32_456
  v870

def k0_off107 (v867 : BitVec 32) : Fin 2 → Nat :=
  let c3_i32_454 : BitVec 32 := 3#32
  let v868 : BitVec 32 := Scalar.shrsi v867 c3_i32_454
  let c8191_i32_455 : BitVec 32 := 8191#32
  let v869 : BitVec 32 := Scalar.andi v868 c8191_i32_455
  let c8_i32_456 : BitVec 32 := 8#32
  let v870 : BitVec 32 := Scalar.muli v869 c8_i32_456
  let v871 : BitVec 32 := v870
  let v872 : Index := Scalar.indexCast v871
  let c0_457 : Index := 0#32
  ![v872.toNat, 0]
def k0_off108 (v867 : BitVec 32) : Fin 2 → Nat :=
  let c3_i32_454 : BitVec 32 := 3#32
  let v868 : BitVec 32 := Scalar.shrsi v867 c3_i32_454
  let c8191_i32_455 : BitVec 32 := 8191#32
  let v869 : BitVec 32 := Scalar.andi v868 c8191_i32_455
  let v877 : Index := Scalar.indexCast v869
  let c0_459 : Index := 0#32
  ![v877.toNat, 0]

def k0_chk54 (i : grid0.Coords) (v867 : BitVec 32) : Prop :=
  (∀ (k0_h1 : k0_cond1 i = 1#1), 8 ∣ (k0_mult54 v867).toNat) ∧
  (∀ (k0_h1 : k0_cond1 i = 1#1), ∀ a, (k0_off107 v867) a + S8x128.size a ≤ S65536x128.size a) ∧
  (∀ (k0_h1 : k0_cond1 i = 1#1), ∀ a, (k0_off108 v867) a + S1x128.size a ≤ S8192x128.size a)
theorem k0_mult54_dvd : ∀ (i : grid0.Coords) (v867 : BitVec 32) (k0_hw54 : k0_chk54 i v867), ∀ (k0_h1 : k0_cond1 i = 1#1), 8 ∣ (k0_mult54 v867).toNat := fun i v867 k0_hw54 k0_h1 => k0_hw54.1 k0_h1
theorem k0_off107_inb : ∀ (i : grid0.Coords) (v867 : BitVec 32) (k0_hw54 : k0_chk54 i v867), ∀ (k0_h1 : k0_cond1 i = 1#1), ∀ a, (k0_off107 v867) a + S8x128.size a ≤ S65536x128.size a := fun i v867 k0_hw54 k0_h1 => k0_hw54.2.1 k0_h1
theorem k0_off108_inb : ∀ (i : grid0.Coords) (v867 : BitVec 32) (k0_hw54 : k0_chk54 i v867), ∀ (k0_h1 : k0_cond1 i = 1#1), ∀ a, (k0_off108 v867) a + S1x128.size a ≤ S8192x128.size a := fun i v867 k0_hw54 k0_h1 => k0_hw54.2.2 k0_h1

def k0_mult55 (v882 : BitVec 32) : BitVec 32 :=
  let c3_i32_462 : BitVec 32 := 3#32
  let v883 : BitVec 32 := Scalar.shrsi v882 c3_i32_462
  let c8191_i32_463 : BitVec 32 := 8191#32
  let v884 : BitVec 32 := Scalar.andi v883 c8191_i32_463
  let c8_i32_464 : BitVec 32 := 8#32
  let v885 : BitVec 32 := Scalar.muli v884 c8_i32_464
  v885

def k0_off109 (v882 : BitVec 32) : Fin 2 → Nat :=
  let c3_i32_462 : BitVec 32 := 3#32
  let v883 : BitVec 32 := Scalar.shrsi v882 c3_i32_462
  let c8191_i32_463 : BitVec 32 := 8191#32
  let v884 : BitVec 32 := Scalar.andi v883 c8191_i32_463
  let c8_i32_464 : BitVec 32 := 8#32
  let v885 : BitVec 32 := Scalar.muli v884 c8_i32_464
  let v886 : BitVec 32 := v885
  let v887 : Index := Scalar.indexCast v886
  let c0_465 : Index := 0#32
  ![v887.toNat, 0]
def k0_off110 (v882 : BitVec 32) : Fin 2 → Nat :=
  let c3_i32_462 : BitVec 32 := 3#32
  let v883 : BitVec 32 := Scalar.shrsi v882 c3_i32_462
  let c8191_i32_463 : BitVec 32 := 8191#32
  let v884 : BitVec 32 := Scalar.andi v883 c8191_i32_463
  let v892 : Index := Scalar.indexCast v884
  let c0_467 : Index := 0#32
  ![v892.toNat, 0]

def k0_chk55 (i : grid0.Coords) (v882 : BitVec 32) : Prop :=
  (∀ (k0_h1 : k0_cond1 i = 1#1), 8 ∣ (k0_mult55 v882).toNat) ∧
  (∀ (k0_h1 : k0_cond1 i = 1#1), ∀ a, (k0_off109 v882) a + S8x128.size a ≤ S65536x128.size a) ∧
  (∀ (k0_h1 : k0_cond1 i = 1#1), ∀ a, (k0_off110 v882) a + S1x128.size a ≤ S8192x128.size a)
theorem k0_mult55_dvd : ∀ (i : grid0.Coords) (v882 : BitVec 32) (k0_hw55 : k0_chk55 i v882), ∀ (k0_h1 : k0_cond1 i = 1#1), 8 ∣ (k0_mult55 v882).toNat := fun i v882 k0_hw55 k0_h1 => k0_hw55.1 k0_h1
theorem k0_off109_inb : ∀ (i : grid0.Coords) (v882 : BitVec 32) (k0_hw55 : k0_chk55 i v882), ∀ (k0_h1 : k0_cond1 i = 1#1), ∀ a, (k0_off109 v882) a + S8x128.size a ≤ S65536x128.size a := fun i v882 k0_hw55 k0_h1 => k0_hw55.2.1 k0_h1
theorem k0_off110_inb : ∀ (i : grid0.Coords) (v882 : BitVec 32) (k0_hw55 : k0_chk55 i v882), ∀ (k0_h1 : k0_cond1 i = 1#1), ∀ a, (k0_off110 v882) a + S1x128.size a ≤ S8192x128.size a := fun i v882 k0_hw55 k0_h1 => k0_hw55.2.2 k0_h1

def k0_mult56 (v897 : BitVec 32) : BitVec 32 :=
  let c3_i32_470 : BitVec 32 := 3#32
  let v898 : BitVec 32 := Scalar.shrsi v897 c3_i32_470
  let c8191_i32_471 : BitVec 32 := 8191#32
  let v899 : BitVec 32 := Scalar.andi v898 c8191_i32_471
  let c8_i32_472 : BitVec 32 := 8#32
  let v900 : BitVec 32 := Scalar.muli v899 c8_i32_472
  v900

def k0_off111 (v897 : BitVec 32) : Fin 2 → Nat :=
  let c3_i32_470 : BitVec 32 := 3#32
  let v898 : BitVec 32 := Scalar.shrsi v897 c3_i32_470
  let c8191_i32_471 : BitVec 32 := 8191#32
  let v899 : BitVec 32 := Scalar.andi v898 c8191_i32_471
  let c8_i32_472 : BitVec 32 := 8#32
  let v900 : BitVec 32 := Scalar.muli v899 c8_i32_472
  let v901 : BitVec 32 := v900
  let v902 : Index := Scalar.indexCast v901
  let c0_473 : Index := 0#32
  ![v902.toNat, 0]
def k0_off112 (v897 : BitVec 32) : Fin 2 → Nat :=
  let c3_i32_470 : BitVec 32 := 3#32
  let v898 : BitVec 32 := Scalar.shrsi v897 c3_i32_470
  let c8191_i32_471 : BitVec 32 := 8191#32
  let v899 : BitVec 32 := Scalar.andi v898 c8191_i32_471
  let v907 : Index := Scalar.indexCast v899
  let c0_475 : Index := 0#32
  ![v907.toNat, 0]

def k0_chk56 (i : grid0.Coords) (v897 : BitVec 32) : Prop :=
  (∀ (k0_h1 : k0_cond1 i = 1#1), 8 ∣ (k0_mult56 v897).toNat) ∧
  (∀ (k0_h1 : k0_cond1 i = 1#1), ∀ a, (k0_off111 v897) a + S8x128.size a ≤ S65536x128.size a) ∧
  (∀ (k0_h1 : k0_cond1 i = 1#1), ∀ a, (k0_off112 v897) a + S1x128.size a ≤ S8192x128.size a)
theorem k0_mult56_dvd : ∀ (i : grid0.Coords) (v897 : BitVec 32) (k0_hw56 : k0_chk56 i v897), ∀ (k0_h1 : k0_cond1 i = 1#1), 8 ∣ (k0_mult56 v897).toNat := fun i v897 k0_hw56 k0_h1 => k0_hw56.1 k0_h1
theorem k0_off111_inb : ∀ (i : grid0.Coords) (v897 : BitVec 32) (k0_hw56 : k0_chk56 i v897), ∀ (k0_h1 : k0_cond1 i = 1#1), ∀ a, (k0_off111 v897) a + S8x128.size a ≤ S65536x128.size a := fun i v897 k0_hw56 k0_h1 => k0_hw56.2.1 k0_h1
theorem k0_off112_inb : ∀ (i : grid0.Coords) (v897 : BitVec 32) (k0_hw56 : k0_chk56 i v897), ∀ (k0_h1 : k0_cond1 i = 1#1), ∀ a, (k0_off112 v897) a + S1x128.size a ≤ S8192x128.size a := fun i v897 k0_hw56 k0_h1 => k0_hw56.2.2 k0_h1

def k0_mult57 (v912 : BitVec 32) : BitVec 32 :=
  let c3_i32_479 : BitVec 32 := 3#32
  let v913 : BitVec 32 := Scalar.shrsi v912 c3_i32_479
  let c8191_i32_480 : BitVec 32 := 8191#32
  let v914 : BitVec 32 := Scalar.andi v913 c8191_i32_480
  let c8_i32_481 : BitVec 32 := 8#32
  let v915 : BitVec 32 := Scalar.muli v914 c8_i32_481
  v915

def k0_off113 (v912 : BitVec 32) : Fin 2 → Nat :=
  let c3_i32_479 : BitVec 32 := 3#32
  let v913 : BitVec 32 := Scalar.shrsi v912 c3_i32_479
  let c8191_i32_480 : BitVec 32 := 8191#32
  let v914 : BitVec 32 := Scalar.andi v913 c8191_i32_480
  let c8_i32_481 : BitVec 32 := 8#32
  let v915 : BitVec 32 := Scalar.muli v914 c8_i32_481
  let v916 : BitVec 32 := v915
  let v917 : Index := Scalar.indexCast v916
  let c0_482 : Index := 0#32
  ![v917.toNat, 0]
def k0_off114 (v912 : BitVec 32) : Fin 2 → Nat :=
  let c3_i32_479 : BitVec 32 := 3#32
  let v913 : BitVec 32 := Scalar.shrsi v912 c3_i32_479
  let c8191_i32_480 : BitVec 32 := 8191#32
  let v914 : BitVec 32 := Scalar.andi v913 c8191_i32_480
  let v922 : Index := Scalar.indexCast v914
  let c0_484 : Index := 0#32
  ![v922.toNat, 0]

def k0_chk57 (i : grid0.Coords) (v912 : BitVec 32) : Prop :=
  (∀ (k0_h1 : k0_cond1 i = 1#1), 8 ∣ (k0_mult57 v912).toNat) ∧
  (∀ (k0_h1 : k0_cond1 i = 1#1), ∀ a, (k0_off113 v912) a + S8x128.size a ≤ S65536x128.size a) ∧
  (∀ (k0_h1 : k0_cond1 i = 1#1), ∀ a, (k0_off114 v912) a + S1x128.size a ≤ S8192x128.size a)
theorem k0_mult57_dvd : ∀ (i : grid0.Coords) (v912 : BitVec 32) (k0_hw57 : k0_chk57 i v912), ∀ (k0_h1 : k0_cond1 i = 1#1), 8 ∣ (k0_mult57 v912).toNat := fun i v912 k0_hw57 k0_h1 => k0_hw57.1 k0_h1
theorem k0_off113_inb : ∀ (i : grid0.Coords) (v912 : BitVec 32) (k0_hw57 : k0_chk57 i v912), ∀ (k0_h1 : k0_cond1 i = 1#1), ∀ a, (k0_off113 v912) a + S8x128.size a ≤ S65536x128.size a := fun i v912 k0_hw57 k0_h1 => k0_hw57.2.1 k0_h1
theorem k0_off114_inb : ∀ (i : grid0.Coords) (v912 : BitVec 32) (k0_hw57 : k0_chk57 i v912), ∀ (k0_h1 : k0_cond1 i = 1#1), ∀ a, (k0_off114 v912) a + S1x128.size a ≤ S8192x128.size a := fun i v912 k0_hw57 k0_h1 => k0_hw57.2.2 k0_h1

def k0_mult58 (v927 : BitVec 32) : BitVec 32 :=
  let c3_i32_487 : BitVec 32 := 3#32
  let v928 : BitVec 32 := Scalar.shrsi v927 c3_i32_487
  let c8191_i32_488 : BitVec 32 := 8191#32
  let v929 : BitVec 32 := Scalar.andi v928 c8191_i32_488
  let c8_i32_489 : BitVec 32 := 8#32
  let v930 : BitVec 32 := Scalar.muli v929 c8_i32_489
  v930

def k0_off115 (v927 : BitVec 32) : Fin 2 → Nat :=
  let c3_i32_487 : BitVec 32 := 3#32
  let v928 : BitVec 32 := Scalar.shrsi v927 c3_i32_487
  let c8191_i32_488 : BitVec 32 := 8191#32
  let v929 : BitVec 32 := Scalar.andi v928 c8191_i32_488
  let c8_i32_489 : BitVec 32 := 8#32
  let v930 : BitVec 32 := Scalar.muli v929 c8_i32_489
  let v931 : BitVec 32 := v930
  let v932 : Index := Scalar.indexCast v931
  let c0_490 : Index := 0#32
  ![v932.toNat, 0]
def k0_off116 (v927 : BitVec 32) : Fin 2 → Nat :=
  let c3_i32_487 : BitVec 32 := 3#32
  let v928 : BitVec 32 := Scalar.shrsi v927 c3_i32_487
  let c8191_i32_488 : BitVec 32 := 8191#32
  let v929 : BitVec 32 := Scalar.andi v928 c8191_i32_488
  let v937 : Index := Scalar.indexCast v929
  let c0_492 : Index := 0#32
  ![v937.toNat, 0]

def k0_chk58 (i : grid0.Coords) (v927 : BitVec 32) : Prop :=
  (∀ (k0_h1 : k0_cond1 i = 1#1), 8 ∣ (k0_mult58 v927).toNat) ∧
  (∀ (k0_h1 : k0_cond1 i = 1#1), ∀ a, (k0_off115 v927) a + S8x128.size a ≤ S65536x128.size a) ∧
  (∀ (k0_h1 : k0_cond1 i = 1#1), ∀ a, (k0_off116 v927) a + S1x128.size a ≤ S8192x128.size a)
theorem k0_mult58_dvd : ∀ (i : grid0.Coords) (v927 : BitVec 32) (k0_hw58 : k0_chk58 i v927), ∀ (k0_h1 : k0_cond1 i = 1#1), 8 ∣ (k0_mult58 v927).toNat := fun i v927 k0_hw58 k0_h1 => k0_hw58.1 k0_h1
theorem k0_off115_inb : ∀ (i : grid0.Coords) (v927 : BitVec 32) (k0_hw58 : k0_chk58 i v927), ∀ (k0_h1 : k0_cond1 i = 1#1), ∀ a, (k0_off115 v927) a + S8x128.size a ≤ S65536x128.size a := fun i v927 k0_hw58 k0_h1 => k0_hw58.2.1 k0_h1
theorem k0_off116_inb : ∀ (i : grid0.Coords) (v927 : BitVec 32) (k0_hw58 : k0_chk58 i v927), ∀ (k0_h1 : k0_cond1 i = 1#1), ∀ a, (k0_off116 v927) a + S1x128.size a ≤ S8192x128.size a := fun i v927 k0_hw58 k0_h1 => k0_hw58.2.2 k0_h1

def k0_mult59 (v942 : BitVec 32) : BitVec 32 :=
  let c3_i32_495 : BitVec 32 := 3#32
  let v943 : BitVec 32 := Scalar.shrsi v942 c3_i32_495
  let c8191_i32_496 : BitVec 32 := 8191#32
  let v944 : BitVec 32 := Scalar.andi v943 c8191_i32_496
  let c8_i32_497 : BitVec 32 := 8#32
  let v945 : BitVec 32 := Scalar.muli v944 c8_i32_497
  v945

def k0_off117 (v942 : BitVec 32) : Fin 2 → Nat :=
  let c3_i32_495 : BitVec 32 := 3#32
  let v943 : BitVec 32 := Scalar.shrsi v942 c3_i32_495
  let c8191_i32_496 : BitVec 32 := 8191#32
  let v944 : BitVec 32 := Scalar.andi v943 c8191_i32_496
  let c8_i32_497 : BitVec 32 := 8#32
  let v945 : BitVec 32 := Scalar.muli v944 c8_i32_497
  let v946 : BitVec 32 := v945
  let v947 : Index := Scalar.indexCast v946
  let c0_498 : Index := 0#32
  ![v947.toNat, 0]
def k0_off118 (v942 : BitVec 32) : Fin 2 → Nat :=
  let c3_i32_495 : BitVec 32 := 3#32
  let v943 : BitVec 32 := Scalar.shrsi v942 c3_i32_495
  let c8191_i32_496 : BitVec 32 := 8191#32
  let v944 : BitVec 32 := Scalar.andi v943 c8191_i32_496
  let v952 : Index := Scalar.indexCast v944
  let c0_500 : Index := 0#32
  ![v952.toNat, 0]

def k0_chk59 (i : grid0.Coords) (v942 : BitVec 32) : Prop :=
  (∀ (k0_h1 : k0_cond1 i = 1#1), 8 ∣ (k0_mult59 v942).toNat) ∧
  (∀ (k0_h1 : k0_cond1 i = 1#1), ∀ a, (k0_off117 v942) a + S8x128.size a ≤ S65536x128.size a) ∧
  (∀ (k0_h1 : k0_cond1 i = 1#1), ∀ a, (k0_off118 v942) a + S1x128.size a ≤ S8192x128.size a)
theorem k0_mult59_dvd : ∀ (i : grid0.Coords) (v942 : BitVec 32) (k0_hw59 : k0_chk59 i v942), ∀ (k0_h1 : k0_cond1 i = 1#1), 8 ∣ (k0_mult59 v942).toNat := fun i v942 k0_hw59 k0_h1 => k0_hw59.1 k0_h1
theorem k0_off117_inb : ∀ (i : grid0.Coords) (v942 : BitVec 32) (k0_hw59 : k0_chk59 i v942), ∀ (k0_h1 : k0_cond1 i = 1#1), ∀ a, (k0_off117 v942) a + S8x128.size a ≤ S65536x128.size a := fun i v942 k0_hw59 k0_h1 => k0_hw59.2.1 k0_h1
theorem k0_off118_inb : ∀ (i : grid0.Coords) (v942 : BitVec 32) (k0_hw59 : k0_chk59 i v942), ∀ (k0_h1 : k0_cond1 i = 1#1), ∀ a, (k0_off118 v942) a + S1x128.size a ≤ S8192x128.size a := fun i v942 k0_hw59 k0_h1 => k0_hw59.2.2 k0_h1

def k0_mult60 (v957 : BitVec 32) : BitVec 32 :=
  let c3_i32_503 : BitVec 32 := 3#32
  let v958 : BitVec 32 := Scalar.shrsi v957 c3_i32_503
  let c8191_i32_504 : BitVec 32 := 8191#32
  let v959 : BitVec 32 := Scalar.andi v958 c8191_i32_504
  let c8_i32_505 : BitVec 32 := 8#32
  let v960 : BitVec 32 := Scalar.muli v959 c8_i32_505
  v960

def k0_off119 (v957 : BitVec 32) : Fin 2 → Nat :=
  let c3_i32_503 : BitVec 32 := 3#32
  let v958 : BitVec 32 := Scalar.shrsi v957 c3_i32_503
  let c8191_i32_504 : BitVec 32 := 8191#32
  let v959 : BitVec 32 := Scalar.andi v958 c8191_i32_504
  let c8_i32_505 : BitVec 32 := 8#32
  let v960 : BitVec 32 := Scalar.muli v959 c8_i32_505
  let v961 : BitVec 32 := v960
  let v962 : Index := Scalar.indexCast v961
  let c0_506 : Index := 0#32
  ![v962.toNat, 0]
def k0_off120 (v957 : BitVec 32) : Fin 2 → Nat :=
  let c3_i32_503 : BitVec 32 := 3#32
  let v958 : BitVec 32 := Scalar.shrsi v957 c3_i32_503
  let c8191_i32_504 : BitVec 32 := 8191#32
  let v959 : BitVec 32 := Scalar.andi v958 c8191_i32_504
  let v967 : Index := Scalar.indexCast v959
  let c0_508 : Index := 0#32
  ![v967.toNat, 0]

def k0_chk60 (i : grid0.Coords) (v957 : BitVec 32) : Prop :=
  (∀ (k0_h1 : k0_cond1 i = 1#1), 8 ∣ (k0_mult60 v957).toNat) ∧
  (∀ (k0_h1 : k0_cond1 i = 1#1), ∀ a, (k0_off119 v957) a + S8x128.size a ≤ S65536x128.size a) ∧
  (∀ (k0_h1 : k0_cond1 i = 1#1), ∀ a, (k0_off120 v957) a + S1x128.size a ≤ S8192x128.size a)
theorem k0_mult60_dvd : ∀ (i : grid0.Coords) (v957 : BitVec 32) (k0_hw60 : k0_chk60 i v957), ∀ (k0_h1 : k0_cond1 i = 1#1), 8 ∣ (k0_mult60 v957).toNat := fun i v957 k0_hw60 k0_h1 => k0_hw60.1 k0_h1
theorem k0_off119_inb : ∀ (i : grid0.Coords) (v957 : BitVec 32) (k0_hw60 : k0_chk60 i v957), ∀ (k0_h1 : k0_cond1 i = 1#1), ∀ a, (k0_off119 v957) a + S8x128.size a ≤ S65536x128.size a := fun i v957 k0_hw60 k0_h1 => k0_hw60.2.1 k0_h1
theorem k0_off120_inb : ∀ (i : grid0.Coords) (v957 : BitVec 32) (k0_hw60 : k0_chk60 i v957), ∀ (k0_h1 : k0_cond1 i = 1#1), ∀ a, (k0_off120 v957) a + S1x128.size a ≤ S8192x128.size a := fun i v957 k0_hw60 k0_h1 => k0_hw60.2.2 k0_h1

def k0_mult61 (v972 : BitVec 32) : BitVec 32 :=
  let c3_i32_511 : BitVec 32 := 3#32
  let v973 : BitVec 32 := Scalar.shrsi v972 c3_i32_511
  let c8191_i32_512 : BitVec 32 := 8191#32
  let v974 : BitVec 32 := Scalar.andi v973 c8191_i32_512
  let c8_i32_513 : BitVec 32 := 8#32
  let v975 : BitVec 32 := Scalar.muli v974 c8_i32_513
  v975

def k0_off121 (v972 : BitVec 32) : Fin 2 → Nat :=
  let c3_i32_511 : BitVec 32 := 3#32
  let v973 : BitVec 32 := Scalar.shrsi v972 c3_i32_511
  let c8191_i32_512 : BitVec 32 := 8191#32
  let v974 : BitVec 32 := Scalar.andi v973 c8191_i32_512
  let c8_i32_513 : BitVec 32 := 8#32
  let v975 : BitVec 32 := Scalar.muli v974 c8_i32_513
  let v976 : BitVec 32 := v975
  let v977 : Index := Scalar.indexCast v976
  let c0_514 : Index := 0#32
  ![v977.toNat, 0]
def k0_off122 (v972 : BitVec 32) : Fin 2 → Nat :=
  let c3_i32_511 : BitVec 32 := 3#32
  let v973 : BitVec 32 := Scalar.shrsi v972 c3_i32_511
  let c8191_i32_512 : BitVec 32 := 8191#32
  let v974 : BitVec 32 := Scalar.andi v973 c8191_i32_512
  let v982 : Index := Scalar.indexCast v974
  let c0_516 : Index := 0#32
  ![v982.toNat, 0]

def k0_chk61 (i : grid0.Coords) (v972 : BitVec 32) : Prop :=
  (∀ (k0_h1 : k0_cond1 i = 1#1), 8 ∣ (k0_mult61 v972).toNat) ∧
  (∀ (k0_h1 : k0_cond1 i = 1#1), ∀ a, (k0_off121 v972) a + S8x128.size a ≤ S65536x128.size a) ∧
  (∀ (k0_h1 : k0_cond1 i = 1#1), ∀ a, (k0_off122 v972) a + S1x128.size a ≤ S8192x128.size a)
theorem k0_mult61_dvd : ∀ (i : grid0.Coords) (v972 : BitVec 32) (k0_hw61 : k0_chk61 i v972), ∀ (k0_h1 : k0_cond1 i = 1#1), 8 ∣ (k0_mult61 v972).toNat := fun i v972 k0_hw61 k0_h1 => k0_hw61.1 k0_h1
theorem k0_off121_inb : ∀ (i : grid0.Coords) (v972 : BitVec 32) (k0_hw61 : k0_chk61 i v972), ∀ (k0_h1 : k0_cond1 i = 1#1), ∀ a, (k0_off121 v972) a + S8x128.size a ≤ S65536x128.size a := fun i v972 k0_hw61 k0_h1 => k0_hw61.2.1 k0_h1
theorem k0_off122_inb : ∀ (i : grid0.Coords) (v972 : BitVec 32) (k0_hw61 : k0_chk61 i v972), ∀ (k0_h1 : k0_cond1 i = 1#1), ∀ a, (k0_off122 v972) a + S1x128.size a ≤ S8192x128.size a := fun i v972 k0_hw61 k0_h1 => k0_hw61.2.2 k0_h1

def k0_mult62 (v987 : BitVec 32) : BitVec 32 :=
  let c3_i32_519 : BitVec 32 := 3#32
  let v988 : BitVec 32 := Scalar.shrsi v987 c3_i32_519
  let c8191_i32_520 : BitVec 32 := 8191#32
  let v989 : BitVec 32 := Scalar.andi v988 c8191_i32_520
  let c8_i32_521 : BitVec 32 := 8#32
  let v990 : BitVec 32 := Scalar.muli v989 c8_i32_521
  v990

def k0_off123 (v987 : BitVec 32) : Fin 2 → Nat :=
  let c3_i32_519 : BitVec 32 := 3#32
  let v988 : BitVec 32 := Scalar.shrsi v987 c3_i32_519
  let c8191_i32_520 : BitVec 32 := 8191#32
  let v989 : BitVec 32 := Scalar.andi v988 c8191_i32_520
  let c8_i32_521 : BitVec 32 := 8#32
  let v990 : BitVec 32 := Scalar.muli v989 c8_i32_521
  let v991 : BitVec 32 := v990
  let v992 : Index := Scalar.indexCast v991
  let c0_522 : Index := 0#32
  ![v992.toNat, 0]
def k0_off124 (v987 : BitVec 32) : Fin 2 → Nat :=
  let c3_i32_519 : BitVec 32 := 3#32
  let v988 : BitVec 32 := Scalar.shrsi v987 c3_i32_519
  let c8191_i32_520 : BitVec 32 := 8191#32
  let v989 : BitVec 32 := Scalar.andi v988 c8191_i32_520
  let v997 : Index := Scalar.indexCast v989
  let c0_524 : Index := 0#32
  ![v997.toNat, 0]

def k0_chk62 (i : grid0.Coords) (v987 : BitVec 32) : Prop :=
  (∀ (k0_h1 : k0_cond1 i = 1#1), 8 ∣ (k0_mult62 v987).toNat) ∧
  (∀ (k0_h1 : k0_cond1 i = 1#1), ∀ a, (k0_off123 v987) a + S8x128.size a ≤ S65536x128.size a) ∧
  (∀ (k0_h1 : k0_cond1 i = 1#1), ∀ a, (k0_off124 v987) a + S1x128.size a ≤ S8192x128.size a)
theorem k0_mult62_dvd : ∀ (i : grid0.Coords) (v987 : BitVec 32) (k0_hw62 : k0_chk62 i v987), ∀ (k0_h1 : k0_cond1 i = 1#1), 8 ∣ (k0_mult62 v987).toNat := fun i v987 k0_hw62 k0_h1 => k0_hw62.1 k0_h1
theorem k0_off123_inb : ∀ (i : grid0.Coords) (v987 : BitVec 32) (k0_hw62 : k0_chk62 i v987), ∀ (k0_h1 : k0_cond1 i = 1#1), ∀ a, (k0_off123 v987) a + S8x128.size a ≤ S65536x128.size a := fun i v987 k0_hw62 k0_h1 => k0_hw62.2.1 k0_h1
theorem k0_off124_inb : ∀ (i : grid0.Coords) (v987 : BitVec 32) (k0_hw62 : k0_chk62 i v987), ∀ (k0_h1 : k0_cond1 i = 1#1), ∀ a, (k0_off124 v987) a + S1x128.size a ≤ S8192x128.size a := fun i v987 k0_hw62 k0_h1 => k0_hw62.2.2 k0_h1

def k0_mult63 (v1002 : BitVec 32) : BitVec 32 :=
  let c3_i32_527 : BitVec 32 := 3#32
  let v1003 : BitVec 32 := Scalar.shrsi v1002 c3_i32_527
  let c8191_i32_528 : BitVec 32 := 8191#32
  let v1004 : BitVec 32 := Scalar.andi v1003 c8191_i32_528
  let c8_i32_529 : BitVec 32 := 8#32
  let v1005 : BitVec 32 := Scalar.muli v1004 c8_i32_529
  v1005

def k0_off125 (v1002 : BitVec 32) : Fin 2 → Nat :=
  let c3_i32_527 : BitVec 32 := 3#32
  let v1003 : BitVec 32 := Scalar.shrsi v1002 c3_i32_527
  let c8191_i32_528 : BitVec 32 := 8191#32
  let v1004 : BitVec 32 := Scalar.andi v1003 c8191_i32_528
  let c8_i32_529 : BitVec 32 := 8#32
  let v1005 : BitVec 32 := Scalar.muli v1004 c8_i32_529
  let v1006 : BitVec 32 := v1005
  let v1007 : Index := Scalar.indexCast v1006
  let c0_530 : Index := 0#32
  ![v1007.toNat, 0]
def k0_off126 (v1002 : BitVec 32) : Fin 2 → Nat :=
  let c3_i32_527 : BitVec 32 := 3#32
  let v1003 : BitVec 32 := Scalar.shrsi v1002 c3_i32_527
  let c8191_i32_528 : BitVec 32 := 8191#32
  let v1004 : BitVec 32 := Scalar.andi v1003 c8191_i32_528
  let v1012 : Index := Scalar.indexCast v1004
  let c0_532 : Index := 0#32
  ![v1012.toNat, 0]

def k0_chk63 (i : grid0.Coords) (v1002 : BitVec 32) : Prop :=
  (∀ (k0_h1 : k0_cond1 i = 1#1), 8 ∣ (k0_mult63 v1002).toNat) ∧
  (∀ (k0_h1 : k0_cond1 i = 1#1), ∀ a, (k0_off125 v1002) a + S8x128.size a ≤ S65536x128.size a) ∧
  (∀ (k0_h1 : k0_cond1 i = 1#1), ∀ a, (k0_off126 v1002) a + S1x128.size a ≤ S8192x128.size a)
theorem k0_mult63_dvd : ∀ (i : grid0.Coords) (v1002 : BitVec 32) (k0_hw63 : k0_chk63 i v1002), ∀ (k0_h1 : k0_cond1 i = 1#1), 8 ∣ (k0_mult63 v1002).toNat := fun i v1002 k0_hw63 k0_h1 => k0_hw63.1 k0_h1
theorem k0_off125_inb : ∀ (i : grid0.Coords) (v1002 : BitVec 32) (k0_hw63 : k0_chk63 i v1002), ∀ (k0_h1 : k0_cond1 i = 1#1), ∀ a, (k0_off125 v1002) a + S8x128.size a ≤ S65536x128.size a := fun i v1002 k0_hw63 k0_h1 => k0_hw63.2.1 k0_h1
theorem k0_off126_inb : ∀ (i : grid0.Coords) (v1002 : BitVec 32) (k0_hw63 : k0_chk63 i v1002), ∀ (k0_h1 : k0_cond1 i = 1#1), ∀ a, (k0_off126 v1002) a + S1x128.size a ≤ S8192x128.size a := fun i v1002 k0_hw63 k0_h1 => k0_hw63.2.2 k0_h1

def k0_mult64 (v1017 : BitVec 32) : BitVec 32 :=
  let c3_i32_535 : BitVec 32 := 3#32
  let v1018 : BitVec 32 := Scalar.shrsi v1017 c3_i32_535
  let c8191_i32_536 : BitVec 32 := 8191#32
  let v1019 : BitVec 32 := Scalar.andi v1018 c8191_i32_536
  let c8_i32_537 : BitVec 32 := 8#32
  let v1020 : BitVec 32 := Scalar.muli v1019 c8_i32_537
  v1020

def k0_off127 (v1017 : BitVec 32) : Fin 2 → Nat :=
  let c3_i32_535 : BitVec 32 := 3#32
  let v1018 : BitVec 32 := Scalar.shrsi v1017 c3_i32_535
  let c8191_i32_536 : BitVec 32 := 8191#32
  let v1019 : BitVec 32 := Scalar.andi v1018 c8191_i32_536
  let c8_i32_537 : BitVec 32 := 8#32
  let v1020 : BitVec 32 := Scalar.muli v1019 c8_i32_537
  let v1021 : BitVec 32 := v1020
  let v1022 : Index := Scalar.indexCast v1021
  let c0_538 : Index := 0#32
  ![v1022.toNat, 0]
def k0_off128 (v1017 : BitVec 32) : Fin 2 → Nat :=
  let c3_i32_535 : BitVec 32 := 3#32
  let v1018 : BitVec 32 := Scalar.shrsi v1017 c3_i32_535
  let c8191_i32_536 : BitVec 32 := 8191#32
  let v1019 : BitVec 32 := Scalar.andi v1018 c8191_i32_536
  let v1027 : Index := Scalar.indexCast v1019
  let c0_540 : Index := 0#32
  ![v1027.toNat, 0]

def k0_chk64 (i : grid0.Coords) (v1017 : BitVec 32) : Prop :=
  (∀ (k0_h1 : k0_cond1 i = 1#1), 8 ∣ (k0_mult64 v1017).toNat) ∧
  (∀ (k0_h1 : k0_cond1 i = 1#1), ∀ a, (k0_off127 v1017) a + S8x128.size a ≤ S65536x128.size a) ∧
  (∀ (k0_h1 : k0_cond1 i = 1#1), ∀ a, (k0_off128 v1017) a + S1x128.size a ≤ S8192x128.size a)
theorem k0_mult64_dvd : ∀ (i : grid0.Coords) (v1017 : BitVec 32) (k0_hw64 : k0_chk64 i v1017), ∀ (k0_h1 : k0_cond1 i = 1#1), 8 ∣ (k0_mult64 v1017).toNat := fun i v1017 k0_hw64 k0_h1 => k0_hw64.1 k0_h1
theorem k0_off127_inb : ∀ (i : grid0.Coords) (v1017 : BitVec 32) (k0_hw64 : k0_chk64 i v1017), ∀ (k0_h1 : k0_cond1 i = 1#1), ∀ a, (k0_off127 v1017) a + S8x128.size a ≤ S65536x128.size a := fun i v1017 k0_hw64 k0_h1 => k0_hw64.2.1 k0_h1
theorem k0_off128_inb : ∀ (i : grid0.Coords) (v1017 : BitVec 32) (k0_hw64 : k0_chk64 i v1017), ∀ (k0_h1 : k0_cond1 i = 1#1), ∀ a, (k0_off128 v1017) a + S1x128.size a ≤ S8192x128.size a := fun i v1017 k0_hw64 k0_h1 => k0_hw64.2.2 k0_h1

def k0_mult65 (v1032 : BitVec 32) : BitVec 32 :=
  let c3_i32_544 : BitVec 32 := 3#32
  let v1033 : BitVec 32 := Scalar.shrsi v1032 c3_i32_544
  let c8191_i32_545 : BitVec 32 := 8191#32
  let v1034 : BitVec 32 := Scalar.andi v1033 c8191_i32_545
  let c8_i32_546 : BitVec 32 := 8#32
  let v1035 : BitVec 32 := Scalar.muli v1034 c8_i32_546
  v1035

def k0_off129 (v1032 : BitVec 32) : Fin 2 → Nat :=
  let c3_i32_544 : BitVec 32 := 3#32
  let v1033 : BitVec 32 := Scalar.shrsi v1032 c3_i32_544
  let c8191_i32_545 : BitVec 32 := 8191#32
  let v1034 : BitVec 32 := Scalar.andi v1033 c8191_i32_545
  let c8_i32_546 : BitVec 32 := 8#32
  let v1035 : BitVec 32 := Scalar.muli v1034 c8_i32_546
  let v1036 : BitVec 32 := v1035
  let v1037 : Index := Scalar.indexCast v1036
  let c0_547 : Index := 0#32
  ![v1037.toNat, 0]
def k0_off130 (v1032 : BitVec 32) : Fin 2 → Nat :=
  let c3_i32_544 : BitVec 32 := 3#32
  let v1033 : BitVec 32 := Scalar.shrsi v1032 c3_i32_544
  let c8191_i32_545 : BitVec 32 := 8191#32
  let v1034 : BitVec 32 := Scalar.andi v1033 c8191_i32_545
  let v1042 : Index := Scalar.indexCast v1034
  let c0_549 : Index := 0#32
  ![v1042.toNat, 0]

def k0_chk65 (i : grid0.Coords) (v1032 : BitVec 32) : Prop :=
  (∀ (k0_h1 : k0_cond1 i = 1#1), 8 ∣ (k0_mult65 v1032).toNat) ∧
  (∀ (k0_h1 : k0_cond1 i = 1#1), ∀ a, (k0_off129 v1032) a + S8x128.size a ≤ S65536x128.size a) ∧
  (∀ (k0_h1 : k0_cond1 i = 1#1), ∀ a, (k0_off130 v1032) a + S1x128.size a ≤ S8192x128.size a)
theorem k0_mult65_dvd : ∀ (i : grid0.Coords) (v1032 : BitVec 32) (k0_hw65 : k0_chk65 i v1032), ∀ (k0_h1 : k0_cond1 i = 1#1), 8 ∣ (k0_mult65 v1032).toNat := fun i v1032 k0_hw65 k0_h1 => k0_hw65.1 k0_h1
theorem k0_off129_inb : ∀ (i : grid0.Coords) (v1032 : BitVec 32) (k0_hw65 : k0_chk65 i v1032), ∀ (k0_h1 : k0_cond1 i = 1#1), ∀ a, (k0_off129 v1032) a + S8x128.size a ≤ S65536x128.size a := fun i v1032 k0_hw65 k0_h1 => k0_hw65.2.1 k0_h1
theorem k0_off130_inb : ∀ (i : grid0.Coords) (v1032 : BitVec 32) (k0_hw65 : k0_chk65 i v1032), ∀ (k0_h1 : k0_cond1 i = 1#1), ∀ a, (k0_off130 v1032) a + S1x128.size a ≤ S8192x128.size a := fun i v1032 k0_hw65 k0_h1 => k0_hw65.2.2 k0_h1

def k0_mult66 (v1047 : BitVec 32) : BitVec 32 :=
  let c3_i32_552 : BitVec 32 := 3#32
  let v1048 : BitVec 32 := Scalar.shrsi v1047 c3_i32_552
  let c8191_i32_553 : BitVec 32 := 8191#32
  let v1049 : BitVec 32 := Scalar.andi v1048 c8191_i32_553
  let c8_i32_554 : BitVec 32 := 8#32
  let v1050 : BitVec 32 := Scalar.muli v1049 c8_i32_554
  v1050

def k0_off131 (v1047 : BitVec 32) : Fin 2 → Nat :=
  let c3_i32_552 : BitVec 32 := 3#32
  let v1048 : BitVec 32 := Scalar.shrsi v1047 c3_i32_552
  let c8191_i32_553 : BitVec 32 := 8191#32
  let v1049 : BitVec 32 := Scalar.andi v1048 c8191_i32_553
  let c8_i32_554 : BitVec 32 := 8#32
  let v1050 : BitVec 32 := Scalar.muli v1049 c8_i32_554
  let v1051 : BitVec 32 := v1050
  let v1052 : Index := Scalar.indexCast v1051
  let c0_555 : Index := 0#32
  ![v1052.toNat, 0]
def k0_off132 (v1047 : BitVec 32) : Fin 2 → Nat :=
  let c3_i32_552 : BitVec 32 := 3#32
  let v1048 : BitVec 32 := Scalar.shrsi v1047 c3_i32_552
  let c8191_i32_553 : BitVec 32 := 8191#32
  let v1049 : BitVec 32 := Scalar.andi v1048 c8191_i32_553
  let v1057 : Index := Scalar.indexCast v1049
  let c0_557 : Index := 0#32
  ![v1057.toNat, 0]

def k0_chk66 (i : grid0.Coords) (v1047 : BitVec 32) : Prop :=
  (∀ (k0_h1 : k0_cond1 i = 1#1), 8 ∣ (k0_mult66 v1047).toNat) ∧
  (∀ (k0_h1 : k0_cond1 i = 1#1), ∀ a, (k0_off131 v1047) a + S8x128.size a ≤ S65536x128.size a) ∧
  (∀ (k0_h1 : k0_cond1 i = 1#1), ∀ a, (k0_off132 v1047) a + S1x128.size a ≤ S8192x128.size a)
theorem k0_mult66_dvd : ∀ (i : grid0.Coords) (v1047 : BitVec 32) (k0_hw66 : k0_chk66 i v1047), ∀ (k0_h1 : k0_cond1 i = 1#1), 8 ∣ (k0_mult66 v1047).toNat := fun i v1047 k0_hw66 k0_h1 => k0_hw66.1 k0_h1
theorem k0_off131_inb : ∀ (i : grid0.Coords) (v1047 : BitVec 32) (k0_hw66 : k0_chk66 i v1047), ∀ (k0_h1 : k0_cond1 i = 1#1), ∀ a, (k0_off131 v1047) a + S8x128.size a ≤ S65536x128.size a := fun i v1047 k0_hw66 k0_h1 => k0_hw66.2.1 k0_h1
theorem k0_off132_inb : ∀ (i : grid0.Coords) (v1047 : BitVec 32) (k0_hw66 : k0_chk66 i v1047), ∀ (k0_h1 : k0_cond1 i = 1#1), ∀ a, (k0_off132 v1047) a + S1x128.size a ≤ S8192x128.size a := fun i v1047 k0_hw66 k0_h1 => k0_hw66.2.2 k0_h1

def k0_mult67 (v1062 : BitVec 32) : BitVec 32 :=
  let c3_i32_560 : BitVec 32 := 3#32
  let v1063 : BitVec 32 := Scalar.shrsi v1062 c3_i32_560
  let c8191_i32_561 : BitVec 32 := 8191#32
  let v1064 : BitVec 32 := Scalar.andi v1063 c8191_i32_561
  let c8_i32_562 : BitVec 32 := 8#32
  let v1065 : BitVec 32 := Scalar.muli v1064 c8_i32_562
  v1065

def k0_off133 (v1062 : BitVec 32) : Fin 2 → Nat :=
  let c3_i32_560 : BitVec 32 := 3#32
  let v1063 : BitVec 32 := Scalar.shrsi v1062 c3_i32_560
  let c8191_i32_561 : BitVec 32 := 8191#32
  let v1064 : BitVec 32 := Scalar.andi v1063 c8191_i32_561
  let c8_i32_562 : BitVec 32 := 8#32
  let v1065 : BitVec 32 := Scalar.muli v1064 c8_i32_562
  let v1066 : BitVec 32 := v1065
  let v1067 : Index := Scalar.indexCast v1066
  let c0_563 : Index := 0#32
  ![v1067.toNat, 0]
def k0_off134 (v1062 : BitVec 32) : Fin 2 → Nat :=
  let c3_i32_560 : BitVec 32 := 3#32
  let v1063 : BitVec 32 := Scalar.shrsi v1062 c3_i32_560
  let c8191_i32_561 : BitVec 32 := 8191#32
  let v1064 : BitVec 32 := Scalar.andi v1063 c8191_i32_561
  let v1072 : Index := Scalar.indexCast v1064
  let c0_565 : Index := 0#32
  ![v1072.toNat, 0]

def k0_chk67 (i : grid0.Coords) (v1062 : BitVec 32) : Prop :=
  (∀ (k0_h1 : k0_cond1 i = 1#1), 8 ∣ (k0_mult67 v1062).toNat) ∧
  (∀ (k0_h1 : k0_cond1 i = 1#1), ∀ a, (k0_off133 v1062) a + S8x128.size a ≤ S65536x128.size a) ∧
  (∀ (k0_h1 : k0_cond1 i = 1#1), ∀ a, (k0_off134 v1062) a + S1x128.size a ≤ S8192x128.size a)
theorem k0_mult67_dvd : ∀ (i : grid0.Coords) (v1062 : BitVec 32) (k0_hw67 : k0_chk67 i v1062), ∀ (k0_h1 : k0_cond1 i = 1#1), 8 ∣ (k0_mult67 v1062).toNat := fun i v1062 k0_hw67 k0_h1 => k0_hw67.1 k0_h1
theorem k0_off133_inb : ∀ (i : grid0.Coords) (v1062 : BitVec 32) (k0_hw67 : k0_chk67 i v1062), ∀ (k0_h1 : k0_cond1 i = 1#1), ∀ a, (k0_off133 v1062) a + S8x128.size a ≤ S65536x128.size a := fun i v1062 k0_hw67 k0_h1 => k0_hw67.2.1 k0_h1
theorem k0_off134_inb : ∀ (i : grid0.Coords) (v1062 : BitVec 32) (k0_hw67 : k0_chk67 i v1062), ∀ (k0_h1 : k0_cond1 i = 1#1), ∀ a, (k0_off134 v1062) a + S1x128.size a ≤ S8192x128.size a := fun i v1062 k0_hw67 k0_h1 => k0_hw67.2.2 k0_h1

def k0_mult68 (v1077 : BitVec 32) : BitVec 32 :=
  let c3_i32_568 : BitVec 32 := 3#32
  let v1078 : BitVec 32 := Scalar.shrsi v1077 c3_i32_568
  let c8191_i32_569 : BitVec 32 := 8191#32
  let v1079 : BitVec 32 := Scalar.andi v1078 c8191_i32_569
  let c8_i32_570 : BitVec 32 := 8#32
  let v1080 : BitVec 32 := Scalar.muli v1079 c8_i32_570
  v1080

def k0_off135 (v1077 : BitVec 32) : Fin 2 → Nat :=
  let c3_i32_568 : BitVec 32 := 3#32
  let v1078 : BitVec 32 := Scalar.shrsi v1077 c3_i32_568
  let c8191_i32_569 : BitVec 32 := 8191#32
  let v1079 : BitVec 32 := Scalar.andi v1078 c8191_i32_569
  let c8_i32_570 : BitVec 32 := 8#32
  let v1080 : BitVec 32 := Scalar.muli v1079 c8_i32_570
  let v1081 : BitVec 32 := v1080
  let v1082 : Index := Scalar.indexCast v1081
  let c0_571 : Index := 0#32
  ![v1082.toNat, 0]
def k0_off136 (v1077 : BitVec 32) : Fin 2 → Nat :=
  let c3_i32_568 : BitVec 32 := 3#32
  let v1078 : BitVec 32 := Scalar.shrsi v1077 c3_i32_568
  let c8191_i32_569 : BitVec 32 := 8191#32
  let v1079 : BitVec 32 := Scalar.andi v1078 c8191_i32_569
  let v1087 : Index := Scalar.indexCast v1079
  let c0_573 : Index := 0#32
  ![v1087.toNat, 0]

def k0_chk68 (i : grid0.Coords) (v1077 : BitVec 32) : Prop :=
  (∀ (k0_h1 : k0_cond1 i = 1#1), 8 ∣ (k0_mult68 v1077).toNat) ∧
  (∀ (k0_h1 : k0_cond1 i = 1#1), ∀ a, (k0_off135 v1077) a + S8x128.size a ≤ S65536x128.size a) ∧
  (∀ (k0_h1 : k0_cond1 i = 1#1), ∀ a, (k0_off136 v1077) a + S1x128.size a ≤ S8192x128.size a)
theorem k0_mult68_dvd : ∀ (i : grid0.Coords) (v1077 : BitVec 32) (k0_hw68 : k0_chk68 i v1077), ∀ (k0_h1 : k0_cond1 i = 1#1), 8 ∣ (k0_mult68 v1077).toNat := fun i v1077 k0_hw68 k0_h1 => k0_hw68.1 k0_h1
theorem k0_off135_inb : ∀ (i : grid0.Coords) (v1077 : BitVec 32) (k0_hw68 : k0_chk68 i v1077), ∀ (k0_h1 : k0_cond1 i = 1#1), ∀ a, (k0_off135 v1077) a + S8x128.size a ≤ S65536x128.size a := fun i v1077 k0_hw68 k0_h1 => k0_hw68.2.1 k0_h1
theorem k0_off136_inb : ∀ (i : grid0.Coords) (v1077 : BitVec 32) (k0_hw68 : k0_chk68 i v1077), ∀ (k0_h1 : k0_cond1 i = 1#1), ∀ a, (k0_off136 v1077) a + S1x128.size a ≤ S8192x128.size a := fun i v1077 k0_hw68 k0_h1 => k0_hw68.2.2 k0_h1

def k0_mult69 (v1092 : BitVec 32) : BitVec 32 :=
  let c3_i32_576 : BitVec 32 := 3#32
  let v1093 : BitVec 32 := Scalar.shrsi v1092 c3_i32_576
  let c8191_i32_577 : BitVec 32 := 8191#32
  let v1094 : BitVec 32 := Scalar.andi v1093 c8191_i32_577
  let c8_i32_578 : BitVec 32 := 8#32
  let v1095 : BitVec 32 := Scalar.muli v1094 c8_i32_578
  v1095

def k0_off137 (v1092 : BitVec 32) : Fin 2 → Nat :=
  let c3_i32_576 : BitVec 32 := 3#32
  let v1093 : BitVec 32 := Scalar.shrsi v1092 c3_i32_576
  let c8191_i32_577 : BitVec 32 := 8191#32
  let v1094 : BitVec 32 := Scalar.andi v1093 c8191_i32_577
  let c8_i32_578 : BitVec 32 := 8#32
  let v1095 : BitVec 32 := Scalar.muli v1094 c8_i32_578
  let v1096 : BitVec 32 := v1095
  let v1097 : Index := Scalar.indexCast v1096
  let c0_579 : Index := 0#32
  ![v1097.toNat, 0]
def k0_off138 (v1092 : BitVec 32) : Fin 2 → Nat :=
  let c3_i32_576 : BitVec 32 := 3#32
  let v1093 : BitVec 32 := Scalar.shrsi v1092 c3_i32_576
  let c8191_i32_577 : BitVec 32 := 8191#32
  let v1094 : BitVec 32 := Scalar.andi v1093 c8191_i32_577
  let v1102 : Index := Scalar.indexCast v1094
  let c0_581 : Index := 0#32
  ![v1102.toNat, 0]

def k0_chk69 (i : grid0.Coords) (v1092 : BitVec 32) : Prop :=
  (∀ (k0_h1 : k0_cond1 i = 1#1), 8 ∣ (k0_mult69 v1092).toNat) ∧
  (∀ (k0_h1 : k0_cond1 i = 1#1), ∀ a, (k0_off137 v1092) a + S8x128.size a ≤ S65536x128.size a) ∧
  (∀ (k0_h1 : k0_cond1 i = 1#1), ∀ a, (k0_off138 v1092) a + S1x128.size a ≤ S8192x128.size a)
theorem k0_mult69_dvd : ∀ (i : grid0.Coords) (v1092 : BitVec 32) (k0_hw69 : k0_chk69 i v1092), ∀ (k0_h1 : k0_cond1 i = 1#1), 8 ∣ (k0_mult69 v1092).toNat := fun i v1092 k0_hw69 k0_h1 => k0_hw69.1 k0_h1
theorem k0_off137_inb : ∀ (i : grid0.Coords) (v1092 : BitVec 32) (k0_hw69 : k0_chk69 i v1092), ∀ (k0_h1 : k0_cond1 i = 1#1), ∀ a, (k0_off137 v1092) a + S8x128.size a ≤ S65536x128.size a := fun i v1092 k0_hw69 k0_h1 => k0_hw69.2.1 k0_h1
theorem k0_off138_inb : ∀ (i : grid0.Coords) (v1092 : BitVec 32) (k0_hw69 : k0_chk69 i v1092), ∀ (k0_h1 : k0_cond1 i = 1#1), ∀ a, (k0_off138 v1092) a + S1x128.size a ≤ S8192x128.size a := fun i v1092 k0_hw69 k0_h1 => k0_hw69.2.2 k0_h1

def k0_mult70 (v1107 : BitVec 32) : BitVec 32 :=
  let c3_i32_584 : BitVec 32 := 3#32
  let v1108 : BitVec 32 := Scalar.shrsi v1107 c3_i32_584
  let c8191_i32_585 : BitVec 32 := 8191#32
  let v1109 : BitVec 32 := Scalar.andi v1108 c8191_i32_585
  let c8_i32_586 : BitVec 32 := 8#32
  let v1110 : BitVec 32 := Scalar.muli v1109 c8_i32_586
  v1110

def k0_off139 (v1107 : BitVec 32) : Fin 2 → Nat :=
  let c3_i32_584 : BitVec 32 := 3#32
  let v1108 : BitVec 32 := Scalar.shrsi v1107 c3_i32_584
  let c8191_i32_585 : BitVec 32 := 8191#32
  let v1109 : BitVec 32 := Scalar.andi v1108 c8191_i32_585
  let c8_i32_586 : BitVec 32 := 8#32
  let v1110 : BitVec 32 := Scalar.muli v1109 c8_i32_586
  let v1111 : BitVec 32 := v1110
  let v1112 : Index := Scalar.indexCast v1111
  let c0_587 : Index := 0#32
  ![v1112.toNat, 0]
def k0_off140 (v1107 : BitVec 32) : Fin 2 → Nat :=
  let c3_i32_584 : BitVec 32 := 3#32
  let v1108 : BitVec 32 := Scalar.shrsi v1107 c3_i32_584
  let c8191_i32_585 : BitVec 32 := 8191#32
  let v1109 : BitVec 32 := Scalar.andi v1108 c8191_i32_585
  let v1117 : Index := Scalar.indexCast v1109
  let c0_589 : Index := 0#32
  ![v1117.toNat, 0]

def k0_chk70 (i : grid0.Coords) (v1107 : BitVec 32) : Prop :=
  (∀ (k0_h1 : k0_cond1 i = 1#1), 8 ∣ (k0_mult70 v1107).toNat) ∧
  (∀ (k0_h1 : k0_cond1 i = 1#1), ∀ a, (k0_off139 v1107) a + S8x128.size a ≤ S65536x128.size a) ∧
  (∀ (k0_h1 : k0_cond1 i = 1#1), ∀ a, (k0_off140 v1107) a + S1x128.size a ≤ S8192x128.size a)
theorem k0_mult70_dvd : ∀ (i : grid0.Coords) (v1107 : BitVec 32) (k0_hw70 : k0_chk70 i v1107), ∀ (k0_h1 : k0_cond1 i = 1#1), 8 ∣ (k0_mult70 v1107).toNat := fun i v1107 k0_hw70 k0_h1 => k0_hw70.1 k0_h1
theorem k0_off139_inb : ∀ (i : grid0.Coords) (v1107 : BitVec 32) (k0_hw70 : k0_chk70 i v1107), ∀ (k0_h1 : k0_cond1 i = 1#1), ∀ a, (k0_off139 v1107) a + S8x128.size a ≤ S65536x128.size a := fun i v1107 k0_hw70 k0_h1 => k0_hw70.2.1 k0_h1
theorem k0_off140_inb : ∀ (i : grid0.Coords) (v1107 : BitVec 32) (k0_hw70 : k0_chk70 i v1107), ∀ (k0_h1 : k0_cond1 i = 1#1), ∀ a, (k0_off140 v1107) a + S1x128.size a ≤ S8192x128.size a := fun i v1107 k0_hw70 k0_h1 => k0_hw70.2.2 k0_h1

def k0_mult71 (v1122 : BitVec 32) : BitVec 32 :=
  let c3_i32_592 : BitVec 32 := 3#32
  let v1123 : BitVec 32 := Scalar.shrsi v1122 c3_i32_592
  let c8191_i32_593 : BitVec 32 := 8191#32
  let v1124 : BitVec 32 := Scalar.andi v1123 c8191_i32_593
  let c8_i32_594 : BitVec 32 := 8#32
  let v1125 : BitVec 32 := Scalar.muli v1124 c8_i32_594
  v1125

def k0_off141 (v1122 : BitVec 32) : Fin 2 → Nat :=
  let c3_i32_592 : BitVec 32 := 3#32
  let v1123 : BitVec 32 := Scalar.shrsi v1122 c3_i32_592
  let c8191_i32_593 : BitVec 32 := 8191#32
  let v1124 : BitVec 32 := Scalar.andi v1123 c8191_i32_593
  let c8_i32_594 : BitVec 32 := 8#32
  let v1125 : BitVec 32 := Scalar.muli v1124 c8_i32_594
  let v1126 : BitVec 32 := v1125
  let v1127 : Index := Scalar.indexCast v1126
  let c0_595 : Index := 0#32
  ![v1127.toNat, 0]
def k0_off142 (v1122 : BitVec 32) : Fin 2 → Nat :=
  let c3_i32_592 : BitVec 32 := 3#32
  let v1123 : BitVec 32 := Scalar.shrsi v1122 c3_i32_592
  let c8191_i32_593 : BitVec 32 := 8191#32
  let v1124 : BitVec 32 := Scalar.andi v1123 c8191_i32_593
  let v1132 : Index := Scalar.indexCast v1124
  let c0_597 : Index := 0#32
  ![v1132.toNat, 0]

def k0_chk71 (i : grid0.Coords) (v1122 : BitVec 32) : Prop :=
  (∀ (k0_h1 : k0_cond1 i = 1#1), 8 ∣ (k0_mult71 v1122).toNat) ∧
  (∀ (k0_h1 : k0_cond1 i = 1#1), ∀ a, (k0_off141 v1122) a + S8x128.size a ≤ S65536x128.size a) ∧
  (∀ (k0_h1 : k0_cond1 i = 1#1), ∀ a, (k0_off142 v1122) a + S1x128.size a ≤ S8192x128.size a)
theorem k0_mult71_dvd : ∀ (i : grid0.Coords) (v1122 : BitVec 32) (k0_hw71 : k0_chk71 i v1122), ∀ (k0_h1 : k0_cond1 i = 1#1), 8 ∣ (k0_mult71 v1122).toNat := fun i v1122 k0_hw71 k0_h1 => k0_hw71.1 k0_h1
theorem k0_off141_inb : ∀ (i : grid0.Coords) (v1122 : BitVec 32) (k0_hw71 : k0_chk71 i v1122), ∀ (k0_h1 : k0_cond1 i = 1#1), ∀ a, (k0_off141 v1122) a + S8x128.size a ≤ S65536x128.size a := fun i v1122 k0_hw71 k0_h1 => k0_hw71.2.1 k0_h1
theorem k0_off142_inb : ∀ (i : grid0.Coords) (v1122 : BitVec 32) (k0_hw71 : k0_chk71 i v1122), ∀ (k0_h1 : k0_cond1 i = 1#1), ∀ a, (k0_off142 v1122) a + S1x128.size a ≤ S8192x128.size a := fun i v1122 k0_hw71 k0_h1 => k0_hw71.2.2 k0_h1

def k0_mult72 (v1137 : BitVec 32) : BitVec 32 :=
  let c3_i32_600 : BitVec 32 := 3#32
  let v1138 : BitVec 32 := Scalar.shrsi v1137 c3_i32_600
  let c8191_i32_601 : BitVec 32 := 8191#32
  let v1139 : BitVec 32 := Scalar.andi v1138 c8191_i32_601
  let c8_i32_602 : BitVec 32 := 8#32
  let v1140 : BitVec 32 := Scalar.muli v1139 c8_i32_602
  v1140

def k0_off143 (v1137 : BitVec 32) : Fin 2 → Nat :=
  let c3_i32_600 : BitVec 32 := 3#32
  let v1138 : BitVec 32 := Scalar.shrsi v1137 c3_i32_600
  let c8191_i32_601 : BitVec 32 := 8191#32
  let v1139 : BitVec 32 := Scalar.andi v1138 c8191_i32_601
  let c8_i32_602 : BitVec 32 := 8#32
  let v1140 : BitVec 32 := Scalar.muli v1139 c8_i32_602
  let v1141 : BitVec 32 := v1140
  let v1142 : Index := Scalar.indexCast v1141
  let c0_603 : Index := 0#32
  ![v1142.toNat, 0]
def k0_off144 (v1137 : BitVec 32) : Fin 2 → Nat :=
  let c3_i32_600 : BitVec 32 := 3#32
  let v1138 : BitVec 32 := Scalar.shrsi v1137 c3_i32_600
  let c8191_i32_601 : BitVec 32 := 8191#32
  let v1139 : BitVec 32 := Scalar.andi v1138 c8191_i32_601
  let v1147 : Index := Scalar.indexCast v1139
  let c0_605 : Index := 0#32
  ![v1147.toNat, 0]

def k0_chk72 (i : grid0.Coords) (v1137 : BitVec 32) : Prop :=
  (∀ (k0_h1 : k0_cond1 i = 1#1), 8 ∣ (k0_mult72 v1137).toNat) ∧
  (∀ (k0_h1 : k0_cond1 i = 1#1), ∀ a, (k0_off143 v1137) a + S8x128.size a ≤ S65536x128.size a) ∧
  (∀ (k0_h1 : k0_cond1 i = 1#1), ∀ a, (k0_off144 v1137) a + S1x128.size a ≤ S8192x128.size a)
theorem k0_mult72_dvd : ∀ (i : grid0.Coords) (v1137 : BitVec 32) (k0_hw72 : k0_chk72 i v1137), ∀ (k0_h1 : k0_cond1 i = 1#1), 8 ∣ (k0_mult72 v1137).toNat := fun i v1137 k0_hw72 k0_h1 => k0_hw72.1 k0_h1
theorem k0_off143_inb : ∀ (i : grid0.Coords) (v1137 : BitVec 32) (k0_hw72 : k0_chk72 i v1137), ∀ (k0_h1 : k0_cond1 i = 1#1), ∀ a, (k0_off143 v1137) a + S8x128.size a ≤ S65536x128.size a := fun i v1137 k0_hw72 k0_h1 => k0_hw72.2.1 k0_h1
theorem k0_off144_inb : ∀ (i : grid0.Coords) (v1137 : BitVec 32) (k0_hw72 : k0_chk72 i v1137), ∀ (k0_h1 : k0_cond1 i = 1#1), ∀ a, (k0_off144 v1137) a + S1x128.size a ≤ S8192x128.size a := fun i v1137 k0_hw72 k0_h1 => k0_hw72.2.2 k0_h1

def k0_mult73 (v1152 : BitVec 32) : BitVec 32 :=
  let c3_i32_609 : BitVec 32 := 3#32
  let v1153 : BitVec 32 := Scalar.shrsi v1152 c3_i32_609
  let c8191_i32_610 : BitVec 32 := 8191#32
  let v1154 : BitVec 32 := Scalar.andi v1153 c8191_i32_610
  let c8_i32_611 : BitVec 32 := 8#32
  let v1155 : BitVec 32 := Scalar.muli v1154 c8_i32_611
  v1155

def k0_off145 (v1152 : BitVec 32) : Fin 2 → Nat :=
  let c3_i32_609 : BitVec 32 := 3#32
  let v1153 : BitVec 32 := Scalar.shrsi v1152 c3_i32_609
  let c8191_i32_610 : BitVec 32 := 8191#32
  let v1154 : BitVec 32 := Scalar.andi v1153 c8191_i32_610
  let c8_i32_611 : BitVec 32 := 8#32
  let v1155 : BitVec 32 := Scalar.muli v1154 c8_i32_611
  let v1156 : BitVec 32 := v1155
  let v1157 : Index := Scalar.indexCast v1156
  let c0_612 : Index := 0#32
  ![v1157.toNat, 0]
def k0_off146 (v1152 : BitVec 32) : Fin 2 → Nat :=
  let c3_i32_609 : BitVec 32 := 3#32
  let v1153 : BitVec 32 := Scalar.shrsi v1152 c3_i32_609
  let c8191_i32_610 : BitVec 32 := 8191#32
  let v1154 : BitVec 32 := Scalar.andi v1153 c8191_i32_610
  let v1162 : Index := Scalar.indexCast v1154
  let c0_614 : Index := 0#32
  ![v1162.toNat, 0]

def k0_chk73 (i : grid0.Coords) (v1152 : BitVec 32) : Prop :=
  (∀ (k0_h1 : k0_cond1 i = 1#1), 8 ∣ (k0_mult73 v1152).toNat) ∧
  (∀ (k0_h1 : k0_cond1 i = 1#1), ∀ a, (k0_off145 v1152) a + S8x128.size a ≤ S65536x128.size a) ∧
  (∀ (k0_h1 : k0_cond1 i = 1#1), ∀ a, (k0_off146 v1152) a + S1x128.size a ≤ S8192x128.size a)
theorem k0_mult73_dvd : ∀ (i : grid0.Coords) (v1152 : BitVec 32) (k0_hw73 : k0_chk73 i v1152), ∀ (k0_h1 : k0_cond1 i = 1#1), 8 ∣ (k0_mult73 v1152).toNat := fun i v1152 k0_hw73 k0_h1 => k0_hw73.1 k0_h1
theorem k0_off145_inb : ∀ (i : grid0.Coords) (v1152 : BitVec 32) (k0_hw73 : k0_chk73 i v1152), ∀ (k0_h1 : k0_cond1 i = 1#1), ∀ a, (k0_off145 v1152) a + S8x128.size a ≤ S65536x128.size a := fun i v1152 k0_hw73 k0_h1 => k0_hw73.2.1 k0_h1
theorem k0_off146_inb : ∀ (i : grid0.Coords) (v1152 : BitVec 32) (k0_hw73 : k0_chk73 i v1152), ∀ (k0_h1 : k0_cond1 i = 1#1), ∀ a, (k0_off146 v1152) a + S1x128.size a ≤ S8192x128.size a := fun i v1152 k0_hw73 k0_h1 => k0_hw73.2.2 k0_h1

def k0_mult74 (v1167 : BitVec 32) : BitVec 32 :=
  let c3_i32_617 : BitVec 32 := 3#32
  let v1168 : BitVec 32 := Scalar.shrsi v1167 c3_i32_617
  let c8191_i32_618 : BitVec 32 := 8191#32
  let v1169 : BitVec 32 := Scalar.andi v1168 c8191_i32_618
  let c8_i32_619 : BitVec 32 := 8#32
  let v1170 : BitVec 32 := Scalar.muli v1169 c8_i32_619
  v1170

def k0_off147 (v1167 : BitVec 32) : Fin 2 → Nat :=
  let c3_i32_617 : BitVec 32 := 3#32
  let v1168 : BitVec 32 := Scalar.shrsi v1167 c3_i32_617
  let c8191_i32_618 : BitVec 32 := 8191#32
  let v1169 : BitVec 32 := Scalar.andi v1168 c8191_i32_618
  let c8_i32_619 : BitVec 32 := 8#32
  let v1170 : BitVec 32 := Scalar.muli v1169 c8_i32_619
  let v1171 : BitVec 32 := v1170
  let v1172 : Index := Scalar.indexCast v1171
  let c0_620 : Index := 0#32
  ![v1172.toNat, 0]
def k0_off148 (v1167 : BitVec 32) : Fin 2 → Nat :=
  let c3_i32_617 : BitVec 32 := 3#32
  let v1168 : BitVec 32 := Scalar.shrsi v1167 c3_i32_617
  let c8191_i32_618 : BitVec 32 := 8191#32
  let v1169 : BitVec 32 := Scalar.andi v1168 c8191_i32_618
  let v1177 : Index := Scalar.indexCast v1169
  let c0_622 : Index := 0#32
  ![v1177.toNat, 0]

def k0_chk74 (i : grid0.Coords) (v1167 : BitVec 32) : Prop :=
  (∀ (k0_h1 : k0_cond1 i = 1#1), 8 ∣ (k0_mult74 v1167).toNat) ∧
  (∀ (k0_h1 : k0_cond1 i = 1#1), ∀ a, (k0_off147 v1167) a + S8x128.size a ≤ S65536x128.size a) ∧
  (∀ (k0_h1 : k0_cond1 i = 1#1), ∀ a, (k0_off148 v1167) a + S1x128.size a ≤ S8192x128.size a)
theorem k0_mult74_dvd : ∀ (i : grid0.Coords) (v1167 : BitVec 32) (k0_hw74 : k0_chk74 i v1167), ∀ (k0_h1 : k0_cond1 i = 1#1), 8 ∣ (k0_mult74 v1167).toNat := fun i v1167 k0_hw74 k0_h1 => k0_hw74.1 k0_h1
theorem k0_off147_inb : ∀ (i : grid0.Coords) (v1167 : BitVec 32) (k0_hw74 : k0_chk74 i v1167), ∀ (k0_h1 : k0_cond1 i = 1#1), ∀ a, (k0_off147 v1167) a + S8x128.size a ≤ S65536x128.size a := fun i v1167 k0_hw74 k0_h1 => k0_hw74.2.1 k0_h1
theorem k0_off148_inb : ∀ (i : grid0.Coords) (v1167 : BitVec 32) (k0_hw74 : k0_chk74 i v1167), ∀ (k0_h1 : k0_cond1 i = 1#1), ∀ a, (k0_off148 v1167) a + S1x128.size a ≤ S8192x128.size a := fun i v1167 k0_hw74 k0_h1 => k0_hw74.2.2 k0_h1

def k0_mult75 (v1182 : BitVec 32) : BitVec 32 :=
  let c3_i32_625 : BitVec 32 := 3#32
  let v1183 : BitVec 32 := Scalar.shrsi v1182 c3_i32_625
  let c8191_i32_626 : BitVec 32 := 8191#32
  let v1184 : BitVec 32 := Scalar.andi v1183 c8191_i32_626
  let c8_i32_627 : BitVec 32 := 8#32
  let v1185 : BitVec 32 := Scalar.muli v1184 c8_i32_627
  v1185

def k0_off149 (v1182 : BitVec 32) : Fin 2 → Nat :=
  let c3_i32_625 : BitVec 32 := 3#32
  let v1183 : BitVec 32 := Scalar.shrsi v1182 c3_i32_625
  let c8191_i32_626 : BitVec 32 := 8191#32
  let v1184 : BitVec 32 := Scalar.andi v1183 c8191_i32_626
  let c8_i32_627 : BitVec 32 := 8#32
  let v1185 : BitVec 32 := Scalar.muli v1184 c8_i32_627
  let v1186 : BitVec 32 := v1185
  let v1187 : Index := Scalar.indexCast v1186
  let c0_628 : Index := 0#32
  ![v1187.toNat, 0]
def k0_off150 (v1182 : BitVec 32) : Fin 2 → Nat :=
  let c3_i32_625 : BitVec 32 := 3#32
  let v1183 : BitVec 32 := Scalar.shrsi v1182 c3_i32_625
  let c8191_i32_626 : BitVec 32 := 8191#32
  let v1184 : BitVec 32 := Scalar.andi v1183 c8191_i32_626
  let v1192 : Index := Scalar.indexCast v1184
  let c0_630 : Index := 0#32
  ![v1192.toNat, 0]

def k0_chk75 (i : grid0.Coords) (v1182 : BitVec 32) : Prop :=
  (∀ (k0_h1 : k0_cond1 i = 1#1), 8 ∣ (k0_mult75 v1182).toNat) ∧
  (∀ (k0_h1 : k0_cond1 i = 1#1), ∀ a, (k0_off149 v1182) a + S8x128.size a ≤ S65536x128.size a) ∧
  (∀ (k0_h1 : k0_cond1 i = 1#1), ∀ a, (k0_off150 v1182) a + S1x128.size a ≤ S8192x128.size a)
theorem k0_mult75_dvd : ∀ (i : grid0.Coords) (v1182 : BitVec 32) (k0_hw75 : k0_chk75 i v1182), ∀ (k0_h1 : k0_cond1 i = 1#1), 8 ∣ (k0_mult75 v1182).toNat := fun i v1182 k0_hw75 k0_h1 => k0_hw75.1 k0_h1
theorem k0_off149_inb : ∀ (i : grid0.Coords) (v1182 : BitVec 32) (k0_hw75 : k0_chk75 i v1182), ∀ (k0_h1 : k0_cond1 i = 1#1), ∀ a, (k0_off149 v1182) a + S8x128.size a ≤ S65536x128.size a := fun i v1182 k0_hw75 k0_h1 => k0_hw75.2.1 k0_h1
theorem k0_off150_inb : ∀ (i : grid0.Coords) (v1182 : BitVec 32) (k0_hw75 : k0_chk75 i v1182), ∀ (k0_h1 : k0_cond1 i = 1#1), ∀ a, (k0_off150 v1182) a + S1x128.size a ≤ S8192x128.size a := fun i v1182 k0_hw75 k0_h1 => k0_hw75.2.2 k0_h1

def k0_mult76 (v1197 : BitVec 32) : BitVec 32 :=
  let c3_i32_633 : BitVec 32 := 3#32
  let v1198 : BitVec 32 := Scalar.shrsi v1197 c3_i32_633
  let c8191_i32_634 : BitVec 32 := 8191#32
  let v1199 : BitVec 32 := Scalar.andi v1198 c8191_i32_634
  let c8_i32_635 : BitVec 32 := 8#32
  let v1200 : BitVec 32 := Scalar.muli v1199 c8_i32_635
  v1200

def k0_off151 (v1197 : BitVec 32) : Fin 2 → Nat :=
  let c3_i32_633 : BitVec 32 := 3#32
  let v1198 : BitVec 32 := Scalar.shrsi v1197 c3_i32_633
  let c8191_i32_634 : BitVec 32 := 8191#32
  let v1199 : BitVec 32 := Scalar.andi v1198 c8191_i32_634
  let c8_i32_635 : BitVec 32 := 8#32
  let v1200 : BitVec 32 := Scalar.muli v1199 c8_i32_635
  let v1201 : BitVec 32 := v1200
  let v1202 : Index := Scalar.indexCast v1201
  let c0_636 : Index := 0#32
  ![v1202.toNat, 0]
def k0_off152 (v1197 : BitVec 32) : Fin 2 → Nat :=
  let c3_i32_633 : BitVec 32 := 3#32
  let v1198 : BitVec 32 := Scalar.shrsi v1197 c3_i32_633
  let c8191_i32_634 : BitVec 32 := 8191#32
  let v1199 : BitVec 32 := Scalar.andi v1198 c8191_i32_634
  let v1207 : Index := Scalar.indexCast v1199
  let c0_638 : Index := 0#32
  ![v1207.toNat, 0]

def k0_chk76 (i : grid0.Coords) (v1197 : BitVec 32) : Prop :=
  (∀ (k0_h1 : k0_cond1 i = 1#1), 8 ∣ (k0_mult76 v1197).toNat) ∧
  (∀ (k0_h1 : k0_cond1 i = 1#1), ∀ a, (k0_off151 v1197) a + S8x128.size a ≤ S65536x128.size a) ∧
  (∀ (k0_h1 : k0_cond1 i = 1#1), ∀ a, (k0_off152 v1197) a + S1x128.size a ≤ S8192x128.size a)
theorem k0_mult76_dvd : ∀ (i : grid0.Coords) (v1197 : BitVec 32) (k0_hw76 : k0_chk76 i v1197), ∀ (k0_h1 : k0_cond1 i = 1#1), 8 ∣ (k0_mult76 v1197).toNat := fun i v1197 k0_hw76 k0_h1 => k0_hw76.1 k0_h1
theorem k0_off151_inb : ∀ (i : grid0.Coords) (v1197 : BitVec 32) (k0_hw76 : k0_chk76 i v1197), ∀ (k0_h1 : k0_cond1 i = 1#1), ∀ a, (k0_off151 v1197) a + S8x128.size a ≤ S65536x128.size a := fun i v1197 k0_hw76 k0_h1 => k0_hw76.2.1 k0_h1
theorem k0_off152_inb : ∀ (i : grid0.Coords) (v1197 : BitVec 32) (k0_hw76 : k0_chk76 i v1197), ∀ (k0_h1 : k0_cond1 i = 1#1), ∀ a, (k0_off152 v1197) a + S1x128.size a ≤ S8192x128.size a := fun i v1197 k0_hw76 k0_h1 => k0_hw76.2.2 k0_h1

def k0_mult77 (v1212 : BitVec 32) : BitVec 32 :=
  let c3_i32_641 : BitVec 32 := 3#32
  let v1213 : BitVec 32 := Scalar.shrsi v1212 c3_i32_641
  let c8191_i32_642 : BitVec 32 := 8191#32
  let v1214 : BitVec 32 := Scalar.andi v1213 c8191_i32_642
  let c8_i32_643 : BitVec 32 := 8#32
  let v1215 : BitVec 32 := Scalar.muli v1214 c8_i32_643
  v1215

def k0_off153 (v1212 : BitVec 32) : Fin 2 → Nat :=
  let c3_i32_641 : BitVec 32 := 3#32
  let v1213 : BitVec 32 := Scalar.shrsi v1212 c3_i32_641
  let c8191_i32_642 : BitVec 32 := 8191#32
  let v1214 : BitVec 32 := Scalar.andi v1213 c8191_i32_642
  let c8_i32_643 : BitVec 32 := 8#32
  let v1215 : BitVec 32 := Scalar.muli v1214 c8_i32_643
  let v1216 : BitVec 32 := v1215
  let v1217 : Index := Scalar.indexCast v1216
  let c0_644 : Index := 0#32
  ![v1217.toNat, 0]
def k0_off154 (v1212 : BitVec 32) : Fin 2 → Nat :=
  let c3_i32_641 : BitVec 32 := 3#32
  let v1213 : BitVec 32 := Scalar.shrsi v1212 c3_i32_641
  let c8191_i32_642 : BitVec 32 := 8191#32
  let v1214 : BitVec 32 := Scalar.andi v1213 c8191_i32_642
  let v1222 : Index := Scalar.indexCast v1214
  let c0_646 : Index := 0#32
  ![v1222.toNat, 0]

def k0_chk77 (i : grid0.Coords) (v1212 : BitVec 32) : Prop :=
  (∀ (k0_h1 : k0_cond1 i = 1#1), 8 ∣ (k0_mult77 v1212).toNat) ∧
  (∀ (k0_h1 : k0_cond1 i = 1#1), ∀ a, (k0_off153 v1212) a + S8x128.size a ≤ S65536x128.size a) ∧
  (∀ (k0_h1 : k0_cond1 i = 1#1), ∀ a, (k0_off154 v1212) a + S1x128.size a ≤ S8192x128.size a)
theorem k0_mult77_dvd : ∀ (i : grid0.Coords) (v1212 : BitVec 32) (k0_hw77 : k0_chk77 i v1212), ∀ (k0_h1 : k0_cond1 i = 1#1), 8 ∣ (k0_mult77 v1212).toNat := fun i v1212 k0_hw77 k0_h1 => k0_hw77.1 k0_h1
theorem k0_off153_inb : ∀ (i : grid0.Coords) (v1212 : BitVec 32) (k0_hw77 : k0_chk77 i v1212), ∀ (k0_h1 : k0_cond1 i = 1#1), ∀ a, (k0_off153 v1212) a + S8x128.size a ≤ S65536x128.size a := fun i v1212 k0_hw77 k0_h1 => k0_hw77.2.1 k0_h1
theorem k0_off154_inb : ∀ (i : grid0.Coords) (v1212 : BitVec 32) (k0_hw77 : k0_chk77 i v1212), ∀ (k0_h1 : k0_cond1 i = 1#1), ∀ a, (k0_off154 v1212) a + S1x128.size a ≤ S8192x128.size a := fun i v1212 k0_hw77 k0_h1 => k0_hw77.2.2 k0_h1

def k0_mult78 (v1227 : BitVec 32) : BitVec 32 :=
  let c3_i32_649 : BitVec 32 := 3#32
  let v1228 : BitVec 32 := Scalar.shrsi v1227 c3_i32_649
  let c8191_i32_650 : BitVec 32 := 8191#32
  let v1229 : BitVec 32 := Scalar.andi v1228 c8191_i32_650
  let c8_i32_651 : BitVec 32 := 8#32
  let v1230 : BitVec 32 := Scalar.muli v1229 c8_i32_651
  v1230

def k0_off155 (v1227 : BitVec 32) : Fin 2 → Nat :=
  let c3_i32_649 : BitVec 32 := 3#32
  let v1228 : BitVec 32 := Scalar.shrsi v1227 c3_i32_649
  let c8191_i32_650 : BitVec 32 := 8191#32
  let v1229 : BitVec 32 := Scalar.andi v1228 c8191_i32_650
  let c8_i32_651 : BitVec 32 := 8#32
  let v1230 : BitVec 32 := Scalar.muli v1229 c8_i32_651
  let v1231 : BitVec 32 := v1230
  let v1232 : Index := Scalar.indexCast v1231
  let c0_652 : Index := 0#32
  ![v1232.toNat, 0]
def k0_off156 (v1227 : BitVec 32) : Fin 2 → Nat :=
  let c3_i32_649 : BitVec 32 := 3#32
  let v1228 : BitVec 32 := Scalar.shrsi v1227 c3_i32_649
  let c8191_i32_650 : BitVec 32 := 8191#32
  let v1229 : BitVec 32 := Scalar.andi v1228 c8191_i32_650
  let v1237 : Index := Scalar.indexCast v1229
  let c0_654 : Index := 0#32
  ![v1237.toNat, 0]

def k0_chk78 (i : grid0.Coords) (v1227 : BitVec 32) : Prop :=
  (∀ (k0_h1 : k0_cond1 i = 1#1), 8 ∣ (k0_mult78 v1227).toNat) ∧
  (∀ (k0_h1 : k0_cond1 i = 1#1), ∀ a, (k0_off155 v1227) a + S8x128.size a ≤ S65536x128.size a) ∧
  (∀ (k0_h1 : k0_cond1 i = 1#1), ∀ a, (k0_off156 v1227) a + S1x128.size a ≤ S8192x128.size a)
theorem k0_mult78_dvd : ∀ (i : grid0.Coords) (v1227 : BitVec 32) (k0_hw78 : k0_chk78 i v1227), ∀ (k0_h1 : k0_cond1 i = 1#1), 8 ∣ (k0_mult78 v1227).toNat := fun i v1227 k0_hw78 k0_h1 => k0_hw78.1 k0_h1
theorem k0_off155_inb : ∀ (i : grid0.Coords) (v1227 : BitVec 32) (k0_hw78 : k0_chk78 i v1227), ∀ (k0_h1 : k0_cond1 i = 1#1), ∀ a, (k0_off155 v1227) a + S8x128.size a ≤ S65536x128.size a := fun i v1227 k0_hw78 k0_h1 => k0_hw78.2.1 k0_h1
theorem k0_off156_inb : ∀ (i : grid0.Coords) (v1227 : BitVec 32) (k0_hw78 : k0_chk78 i v1227), ∀ (k0_h1 : k0_cond1 i = 1#1), ∀ a, (k0_off156 v1227) a + S1x128.size a ≤ S8192x128.size a := fun i v1227 k0_hw78 k0_h1 => k0_hw78.2.2 k0_h1

def k0_mult79 (v1242 : BitVec 32) : BitVec 32 :=
  let c3_i32_657 : BitVec 32 := 3#32
  let v1243 : BitVec 32 := Scalar.shrsi v1242 c3_i32_657
  let c8191_i32_658 : BitVec 32 := 8191#32
  let v1244 : BitVec 32 := Scalar.andi v1243 c8191_i32_658
  let c8_i32_659 : BitVec 32 := 8#32
  let v1245 : BitVec 32 := Scalar.muli v1244 c8_i32_659
  v1245

def k0_off157 (v1242 : BitVec 32) : Fin 2 → Nat :=
  let c3_i32_657 : BitVec 32 := 3#32
  let v1243 : BitVec 32 := Scalar.shrsi v1242 c3_i32_657
  let c8191_i32_658 : BitVec 32 := 8191#32
  let v1244 : BitVec 32 := Scalar.andi v1243 c8191_i32_658
  let c8_i32_659 : BitVec 32 := 8#32
  let v1245 : BitVec 32 := Scalar.muli v1244 c8_i32_659
  let v1246 : BitVec 32 := v1245
  let v1247 : Index := Scalar.indexCast v1246
  let c0_660 : Index := 0#32
  ![v1247.toNat, 0]
def k0_off158 (v1242 : BitVec 32) : Fin 2 → Nat :=
  let c3_i32_657 : BitVec 32 := 3#32
  let v1243 : BitVec 32 := Scalar.shrsi v1242 c3_i32_657
  let c8191_i32_658 : BitVec 32 := 8191#32
  let v1244 : BitVec 32 := Scalar.andi v1243 c8191_i32_658
  let v1252 : Index := Scalar.indexCast v1244
  let c0_662 : Index := 0#32
  ![v1252.toNat, 0]

def k0_chk79 (i : grid0.Coords) (v1242 : BitVec 32) : Prop :=
  (∀ (k0_h1 : k0_cond1 i = 1#1), 8 ∣ (k0_mult79 v1242).toNat) ∧
  (∀ (k0_h1 : k0_cond1 i = 1#1), ∀ a, (k0_off157 v1242) a + S8x128.size a ≤ S65536x128.size a) ∧
  (∀ (k0_h1 : k0_cond1 i = 1#1), ∀ a, (k0_off158 v1242) a + S1x128.size a ≤ S8192x128.size a)
theorem k0_mult79_dvd : ∀ (i : grid0.Coords) (v1242 : BitVec 32) (k0_hw79 : k0_chk79 i v1242), ∀ (k0_h1 : k0_cond1 i = 1#1), 8 ∣ (k0_mult79 v1242).toNat := fun i v1242 k0_hw79 k0_h1 => k0_hw79.1 k0_h1
theorem k0_off157_inb : ∀ (i : grid0.Coords) (v1242 : BitVec 32) (k0_hw79 : k0_chk79 i v1242), ∀ (k0_h1 : k0_cond1 i = 1#1), ∀ a, (k0_off157 v1242) a + S8x128.size a ≤ S65536x128.size a := fun i v1242 k0_hw79 k0_h1 => k0_hw79.2.1 k0_h1
theorem k0_off158_inb : ∀ (i : grid0.Coords) (v1242 : BitVec 32) (k0_hw79 : k0_chk79 i v1242), ∀ (k0_h1 : k0_cond1 i = 1#1), ∀ a, (k0_off158 v1242) a + S1x128.size a ≤ S8192x128.size a := fun i v1242 k0_hw79 k0_h1 => k0_hw79.2.2 k0_h1

def k0_mult80 (v1257 : BitVec 32) : BitVec 32 :=
  let c3_i32_665 : BitVec 32 := 3#32
  let v1258 : BitVec 32 := Scalar.shrsi v1257 c3_i32_665
  let c8191_i32_666 : BitVec 32 := 8191#32
  let v1259 : BitVec 32 := Scalar.andi v1258 c8191_i32_666
  let c8_i32_667 : BitVec 32 := 8#32
  let v1260 : BitVec 32 := Scalar.muli v1259 c8_i32_667
  v1260

def k0_off159 (v1257 : BitVec 32) : Fin 2 → Nat :=
  let c3_i32_665 : BitVec 32 := 3#32
  let v1258 : BitVec 32 := Scalar.shrsi v1257 c3_i32_665
  let c8191_i32_666 : BitVec 32 := 8191#32
  let v1259 : BitVec 32 := Scalar.andi v1258 c8191_i32_666
  let c8_i32_667 : BitVec 32 := 8#32
  let v1260 : BitVec 32 := Scalar.muli v1259 c8_i32_667
  let v1261 : BitVec 32 := v1260
  let v1262 : Index := Scalar.indexCast v1261
  let c0_668 : Index := 0#32
  ![v1262.toNat, 0]
def k0_off160 (v1257 : BitVec 32) : Fin 2 → Nat :=
  let c3_i32_665 : BitVec 32 := 3#32
  let v1258 : BitVec 32 := Scalar.shrsi v1257 c3_i32_665
  let c8191_i32_666 : BitVec 32 := 8191#32
  let v1259 : BitVec 32 := Scalar.andi v1258 c8191_i32_666
  let v1267 : Index := Scalar.indexCast v1259
  let c0_670 : Index := 0#32
  ![v1267.toNat, 0]

def k0_chk80 (i : grid0.Coords) (v1257 : BitVec 32) : Prop :=
  (∀ (k0_h1 : k0_cond1 i = 1#1), 8 ∣ (k0_mult80 v1257).toNat) ∧
  (∀ (k0_h1 : k0_cond1 i = 1#1), ∀ a, (k0_off159 v1257) a + S8x128.size a ≤ S65536x128.size a) ∧
  (∀ (k0_h1 : k0_cond1 i = 1#1), ∀ a, (k0_off160 v1257) a + S1x128.size a ≤ S8192x128.size a)
theorem k0_mult80_dvd : ∀ (i : grid0.Coords) (v1257 : BitVec 32) (k0_hw80 : k0_chk80 i v1257), ∀ (k0_h1 : k0_cond1 i = 1#1), 8 ∣ (k0_mult80 v1257).toNat := fun i v1257 k0_hw80 k0_h1 => k0_hw80.1 k0_h1
theorem k0_off159_inb : ∀ (i : grid0.Coords) (v1257 : BitVec 32) (k0_hw80 : k0_chk80 i v1257), ∀ (k0_h1 : k0_cond1 i = 1#1), ∀ a, (k0_off159 v1257) a + S8x128.size a ≤ S65536x128.size a := fun i v1257 k0_hw80 k0_h1 => k0_hw80.2.1 k0_h1
theorem k0_off160_inb : ∀ (i : grid0.Coords) (v1257 : BitVec 32) (k0_hw80 : k0_chk80 i v1257), ∀ (k0_h1 : k0_cond1 i = 1#1), ∀ a, (k0_off160 v1257) a + S1x128.size a ≤ S8192x128.size a := fun i v1257 k0_hw80 k0_h1 => k0_hw80.2.2 k0_h1

def k0_mult81 (v1272 : BitVec 32) : BitVec 32 :=
  let c3_i32_674 : BitVec 32 := 3#32
  let v1273 : BitVec 32 := Scalar.shrsi v1272 c3_i32_674
  let c8191_i32_675 : BitVec 32 := 8191#32
  let v1274 : BitVec 32 := Scalar.andi v1273 c8191_i32_675
  let c8_i32_676 : BitVec 32 := 8#32
  let v1275 : BitVec 32 := Scalar.muli v1274 c8_i32_676
  v1275

def k0_off161 (v1272 : BitVec 32) : Fin 2 → Nat :=
  let c3_i32_674 : BitVec 32 := 3#32
  let v1273 : BitVec 32 := Scalar.shrsi v1272 c3_i32_674
  let c8191_i32_675 : BitVec 32 := 8191#32
  let v1274 : BitVec 32 := Scalar.andi v1273 c8191_i32_675
  let c8_i32_676 : BitVec 32 := 8#32
  let v1275 : BitVec 32 := Scalar.muli v1274 c8_i32_676
  let v1276 : BitVec 32 := v1275
  let v1277 : Index := Scalar.indexCast v1276
  let c0_677 : Index := 0#32
  ![v1277.toNat, 0]
def k0_off162 (v1272 : BitVec 32) : Fin 2 → Nat :=
  let c3_i32_674 : BitVec 32 := 3#32
  let v1273 : BitVec 32 := Scalar.shrsi v1272 c3_i32_674
  let c8191_i32_675 : BitVec 32 := 8191#32
  let v1274 : BitVec 32 := Scalar.andi v1273 c8191_i32_675
  let v1282 : Index := Scalar.indexCast v1274
  let c0_679 : Index := 0#32
  ![v1282.toNat, 0]

def k0_chk81 (i : grid0.Coords) (v1272 : BitVec 32) : Prop :=
  (∀ (k0_h1 : k0_cond1 i = 1#1), 8 ∣ (k0_mult81 v1272).toNat) ∧
  (∀ (k0_h1 : k0_cond1 i = 1#1), ∀ a, (k0_off161 v1272) a + S8x128.size a ≤ S65536x128.size a) ∧
  (∀ (k0_h1 : k0_cond1 i = 1#1), ∀ a, (k0_off162 v1272) a + S1x128.size a ≤ S8192x128.size a)
theorem k0_mult81_dvd : ∀ (i : grid0.Coords) (v1272 : BitVec 32) (k0_hw81 : k0_chk81 i v1272), ∀ (k0_h1 : k0_cond1 i = 1#1), 8 ∣ (k0_mult81 v1272).toNat := fun i v1272 k0_hw81 k0_h1 => k0_hw81.1 k0_h1
theorem k0_off161_inb : ∀ (i : grid0.Coords) (v1272 : BitVec 32) (k0_hw81 : k0_chk81 i v1272), ∀ (k0_h1 : k0_cond1 i = 1#1), ∀ a, (k0_off161 v1272) a + S8x128.size a ≤ S65536x128.size a := fun i v1272 k0_hw81 k0_h1 => k0_hw81.2.1 k0_h1
theorem k0_off162_inb : ∀ (i : grid0.Coords) (v1272 : BitVec 32) (k0_hw81 : k0_chk81 i v1272), ∀ (k0_h1 : k0_cond1 i = 1#1), ∀ a, (k0_off162 v1272) a + S1x128.size a ≤ S8192x128.size a := fun i v1272 k0_hw81 k0_h1 => k0_hw81.2.2 k0_h1

def k0_mult82 (v1287 : BitVec 32) : BitVec 32 :=
  let c3_i32_682 : BitVec 32 := 3#32
  let v1288 : BitVec 32 := Scalar.shrsi v1287 c3_i32_682
  let c8191_i32_683 : BitVec 32 := 8191#32
  let v1289 : BitVec 32 := Scalar.andi v1288 c8191_i32_683
  let c8_i32_684 : BitVec 32 := 8#32
  let v1290 : BitVec 32 := Scalar.muli v1289 c8_i32_684
  v1290

def k0_off163 (v1287 : BitVec 32) : Fin 2 → Nat :=
  let c3_i32_682 : BitVec 32 := 3#32
  let v1288 : BitVec 32 := Scalar.shrsi v1287 c3_i32_682
  let c8191_i32_683 : BitVec 32 := 8191#32
  let v1289 : BitVec 32 := Scalar.andi v1288 c8191_i32_683
  let c8_i32_684 : BitVec 32 := 8#32
  let v1290 : BitVec 32 := Scalar.muli v1289 c8_i32_684
  let v1291 : BitVec 32 := v1290
  let v1292 : Index := Scalar.indexCast v1291
  let c0_685 : Index := 0#32
  ![v1292.toNat, 0]
def k0_off164 (v1287 : BitVec 32) : Fin 2 → Nat :=
  let c3_i32_682 : BitVec 32 := 3#32
  let v1288 : BitVec 32 := Scalar.shrsi v1287 c3_i32_682
  let c8191_i32_683 : BitVec 32 := 8191#32
  let v1289 : BitVec 32 := Scalar.andi v1288 c8191_i32_683
  let v1297 : Index := Scalar.indexCast v1289
  let c0_687 : Index := 0#32
  ![v1297.toNat, 0]

def k0_chk82 (i : grid0.Coords) (v1287 : BitVec 32) : Prop :=
  (∀ (k0_h1 : k0_cond1 i = 1#1), 8 ∣ (k0_mult82 v1287).toNat) ∧
  (∀ (k0_h1 : k0_cond1 i = 1#1), ∀ a, (k0_off163 v1287) a + S8x128.size a ≤ S65536x128.size a) ∧
  (∀ (k0_h1 : k0_cond1 i = 1#1), ∀ a, (k0_off164 v1287) a + S1x128.size a ≤ S8192x128.size a)
theorem k0_mult82_dvd : ∀ (i : grid0.Coords) (v1287 : BitVec 32) (k0_hw82 : k0_chk82 i v1287), ∀ (k0_h1 : k0_cond1 i = 1#1), 8 ∣ (k0_mult82 v1287).toNat := fun i v1287 k0_hw82 k0_h1 => k0_hw82.1 k0_h1
theorem k0_off163_inb : ∀ (i : grid0.Coords) (v1287 : BitVec 32) (k0_hw82 : k0_chk82 i v1287), ∀ (k0_h1 : k0_cond1 i = 1#1), ∀ a, (k0_off163 v1287) a + S8x128.size a ≤ S65536x128.size a := fun i v1287 k0_hw82 k0_h1 => k0_hw82.2.1 k0_h1
theorem k0_off164_inb : ∀ (i : grid0.Coords) (v1287 : BitVec 32) (k0_hw82 : k0_chk82 i v1287), ∀ (k0_h1 : k0_cond1 i = 1#1), ∀ a, (k0_off164 v1287) a + S1x128.size a ≤ S8192x128.size a := fun i v1287 k0_hw82 k0_h1 => k0_hw82.2.2 k0_h1

def k0_mult83 (v1302 : BitVec 32) : BitVec 32 :=
  let c3_i32_690 : BitVec 32 := 3#32
  let v1303 : BitVec 32 := Scalar.shrsi v1302 c3_i32_690
  let c8191_i32_691 : BitVec 32 := 8191#32
  let v1304 : BitVec 32 := Scalar.andi v1303 c8191_i32_691
  let c8_i32_692 : BitVec 32 := 8#32
  let v1305 : BitVec 32 := Scalar.muli v1304 c8_i32_692
  v1305

def k0_off165 (v1302 : BitVec 32) : Fin 2 → Nat :=
  let c3_i32_690 : BitVec 32 := 3#32
  let v1303 : BitVec 32 := Scalar.shrsi v1302 c3_i32_690
  let c8191_i32_691 : BitVec 32 := 8191#32
  let v1304 : BitVec 32 := Scalar.andi v1303 c8191_i32_691
  let c8_i32_692 : BitVec 32 := 8#32
  let v1305 : BitVec 32 := Scalar.muli v1304 c8_i32_692
  let v1306 : BitVec 32 := v1305
  let v1307 : Index := Scalar.indexCast v1306
  let c0_693 : Index := 0#32
  ![v1307.toNat, 0]
def k0_off166 (v1302 : BitVec 32) : Fin 2 → Nat :=
  let c3_i32_690 : BitVec 32 := 3#32
  let v1303 : BitVec 32 := Scalar.shrsi v1302 c3_i32_690
  let c8191_i32_691 : BitVec 32 := 8191#32
  let v1304 : BitVec 32 := Scalar.andi v1303 c8191_i32_691
  let v1312 : Index := Scalar.indexCast v1304
  let c0_695 : Index := 0#32
  ![v1312.toNat, 0]

def k0_chk83 (i : grid0.Coords) (v1302 : BitVec 32) : Prop :=
  (∀ (k0_h1 : k0_cond1 i = 1#1), 8 ∣ (k0_mult83 v1302).toNat) ∧
  (∀ (k0_h1 : k0_cond1 i = 1#1), ∀ a, (k0_off165 v1302) a + S8x128.size a ≤ S65536x128.size a) ∧
  (∀ (k0_h1 : k0_cond1 i = 1#1), ∀ a, (k0_off166 v1302) a + S1x128.size a ≤ S8192x128.size a)
theorem k0_mult83_dvd : ∀ (i : grid0.Coords) (v1302 : BitVec 32) (k0_hw83 : k0_chk83 i v1302), ∀ (k0_h1 : k0_cond1 i = 1#1), 8 ∣ (k0_mult83 v1302).toNat := fun i v1302 k0_hw83 k0_h1 => k0_hw83.1 k0_h1
theorem k0_off165_inb : ∀ (i : grid0.Coords) (v1302 : BitVec 32) (k0_hw83 : k0_chk83 i v1302), ∀ (k0_h1 : k0_cond1 i = 1#1), ∀ a, (k0_off165 v1302) a + S8x128.size a ≤ S65536x128.size a := fun i v1302 k0_hw83 k0_h1 => k0_hw83.2.1 k0_h1
theorem k0_off166_inb : ∀ (i : grid0.Coords) (v1302 : BitVec 32) (k0_hw83 : k0_chk83 i v1302), ∀ (k0_h1 : k0_cond1 i = 1#1), ∀ a, (k0_off166 v1302) a + S1x128.size a ≤ S8192x128.size a := fun i v1302 k0_hw83 k0_h1 => k0_hw83.2.2 k0_h1

def k0_mult84 (v1317 : BitVec 32) : BitVec 32 :=
  let c3_i32_698 : BitVec 32 := 3#32
  let v1318 : BitVec 32 := Scalar.shrsi v1317 c3_i32_698
  let c8191_i32_699 : BitVec 32 := 8191#32
  let v1319 : BitVec 32 := Scalar.andi v1318 c8191_i32_699
  let c8_i32_700 : BitVec 32 := 8#32
  let v1320 : BitVec 32 := Scalar.muli v1319 c8_i32_700
  v1320

def k0_off167 (v1317 : BitVec 32) : Fin 2 → Nat :=
  let c3_i32_698 : BitVec 32 := 3#32
  let v1318 : BitVec 32 := Scalar.shrsi v1317 c3_i32_698
  let c8191_i32_699 : BitVec 32 := 8191#32
  let v1319 : BitVec 32 := Scalar.andi v1318 c8191_i32_699
  let c8_i32_700 : BitVec 32 := 8#32
  let v1320 : BitVec 32 := Scalar.muli v1319 c8_i32_700
  let v1321 : BitVec 32 := v1320
  let v1322 : Index := Scalar.indexCast v1321
  let c0_701 : Index := 0#32
  ![v1322.toNat, 0]
def k0_off168 (v1317 : BitVec 32) : Fin 2 → Nat :=
  let c3_i32_698 : BitVec 32 := 3#32
  let v1318 : BitVec 32 := Scalar.shrsi v1317 c3_i32_698
  let c8191_i32_699 : BitVec 32 := 8191#32
  let v1319 : BitVec 32 := Scalar.andi v1318 c8191_i32_699
  let v1327 : Index := Scalar.indexCast v1319
  let c0_703 : Index := 0#32
  ![v1327.toNat, 0]

def k0_chk84 (i : grid0.Coords) (v1317 : BitVec 32) : Prop :=
  (∀ (k0_h1 : k0_cond1 i = 1#1), 8 ∣ (k0_mult84 v1317).toNat) ∧
  (∀ (k0_h1 : k0_cond1 i = 1#1), ∀ a, (k0_off167 v1317) a + S8x128.size a ≤ S65536x128.size a) ∧
  (∀ (k0_h1 : k0_cond1 i = 1#1), ∀ a, (k0_off168 v1317) a + S1x128.size a ≤ S8192x128.size a)
theorem k0_mult84_dvd : ∀ (i : grid0.Coords) (v1317 : BitVec 32) (k0_hw84 : k0_chk84 i v1317), ∀ (k0_h1 : k0_cond1 i = 1#1), 8 ∣ (k0_mult84 v1317).toNat := fun i v1317 k0_hw84 k0_h1 => k0_hw84.1 k0_h1
theorem k0_off167_inb : ∀ (i : grid0.Coords) (v1317 : BitVec 32) (k0_hw84 : k0_chk84 i v1317), ∀ (k0_h1 : k0_cond1 i = 1#1), ∀ a, (k0_off167 v1317) a + S8x128.size a ≤ S65536x128.size a := fun i v1317 k0_hw84 k0_h1 => k0_hw84.2.1 k0_h1
theorem k0_off168_inb : ∀ (i : grid0.Coords) (v1317 : BitVec 32) (k0_hw84 : k0_chk84 i v1317), ∀ (k0_h1 : k0_cond1 i = 1#1), ∀ a, (k0_off168 v1317) a + S1x128.size a ≤ S8192x128.size a := fun i v1317 k0_hw84 k0_h1 => k0_hw84.2.2 k0_h1

def k0_mult85 (v1332 : BitVec 32) : BitVec 32 :=
  let c3_i32_706 : BitVec 32 := 3#32
  let v1333 : BitVec 32 := Scalar.shrsi v1332 c3_i32_706
  let c8191_i32_707 : BitVec 32 := 8191#32
  let v1334 : BitVec 32 := Scalar.andi v1333 c8191_i32_707
  let c8_i32_708 : BitVec 32 := 8#32
  let v1335 : BitVec 32 := Scalar.muli v1334 c8_i32_708
  v1335

def k0_off169 (v1332 : BitVec 32) : Fin 2 → Nat :=
  let c3_i32_706 : BitVec 32 := 3#32
  let v1333 : BitVec 32 := Scalar.shrsi v1332 c3_i32_706
  let c8191_i32_707 : BitVec 32 := 8191#32
  let v1334 : BitVec 32 := Scalar.andi v1333 c8191_i32_707
  let c8_i32_708 : BitVec 32 := 8#32
  let v1335 : BitVec 32 := Scalar.muli v1334 c8_i32_708
  let v1336 : BitVec 32 := v1335
  let v1337 : Index := Scalar.indexCast v1336
  let c0_709 : Index := 0#32
  ![v1337.toNat, 0]
def k0_off170 (v1332 : BitVec 32) : Fin 2 → Nat :=
  let c3_i32_706 : BitVec 32 := 3#32
  let v1333 : BitVec 32 := Scalar.shrsi v1332 c3_i32_706
  let c8191_i32_707 : BitVec 32 := 8191#32
  let v1334 : BitVec 32 := Scalar.andi v1333 c8191_i32_707
  let v1342 : Index := Scalar.indexCast v1334
  let c0_711 : Index := 0#32
  ![v1342.toNat, 0]

def k0_chk85 (i : grid0.Coords) (v1332 : BitVec 32) : Prop :=
  (∀ (k0_h1 : k0_cond1 i = 1#1), 8 ∣ (k0_mult85 v1332).toNat) ∧
  (∀ (k0_h1 : k0_cond1 i = 1#1), ∀ a, (k0_off169 v1332) a + S8x128.size a ≤ S65536x128.size a) ∧
  (∀ (k0_h1 : k0_cond1 i = 1#1), ∀ a, (k0_off170 v1332) a + S1x128.size a ≤ S8192x128.size a)
theorem k0_mult85_dvd : ∀ (i : grid0.Coords) (v1332 : BitVec 32) (k0_hw85 : k0_chk85 i v1332), ∀ (k0_h1 : k0_cond1 i = 1#1), 8 ∣ (k0_mult85 v1332).toNat := fun i v1332 k0_hw85 k0_h1 => k0_hw85.1 k0_h1
theorem k0_off169_inb : ∀ (i : grid0.Coords) (v1332 : BitVec 32) (k0_hw85 : k0_chk85 i v1332), ∀ (k0_h1 : k0_cond1 i = 1#1), ∀ a, (k0_off169 v1332) a + S8x128.size a ≤ S65536x128.size a := fun i v1332 k0_hw85 k0_h1 => k0_hw85.2.1 k0_h1
theorem k0_off170_inb : ∀ (i : grid0.Coords) (v1332 : BitVec 32) (k0_hw85 : k0_chk85 i v1332), ∀ (k0_h1 : k0_cond1 i = 1#1), ∀ a, (k0_off170 v1332) a + S1x128.size a ≤ S8192x128.size a := fun i v1332 k0_hw85 k0_h1 => k0_hw85.2.2 k0_h1

def k0_mult86 (v1347 : BitVec 32) : BitVec 32 :=
  let c3_i32_714 : BitVec 32 := 3#32
  let v1348 : BitVec 32 := Scalar.shrsi v1347 c3_i32_714
  let c8191_i32_715 : BitVec 32 := 8191#32
  let v1349 : BitVec 32 := Scalar.andi v1348 c8191_i32_715
  let c8_i32_716 : BitVec 32 := 8#32
  let v1350 : BitVec 32 := Scalar.muli v1349 c8_i32_716
  v1350

def k0_off171 (v1347 : BitVec 32) : Fin 2 → Nat :=
  let c3_i32_714 : BitVec 32 := 3#32
  let v1348 : BitVec 32 := Scalar.shrsi v1347 c3_i32_714
  let c8191_i32_715 : BitVec 32 := 8191#32
  let v1349 : BitVec 32 := Scalar.andi v1348 c8191_i32_715
  let c8_i32_716 : BitVec 32 := 8#32
  let v1350 : BitVec 32 := Scalar.muli v1349 c8_i32_716
  let v1351 : BitVec 32 := v1350
  let v1352 : Index := Scalar.indexCast v1351
  let c0_717 : Index := 0#32
  ![v1352.toNat, 0]
def k0_off172 (v1347 : BitVec 32) : Fin 2 → Nat :=
  let c3_i32_714 : BitVec 32 := 3#32
  let v1348 : BitVec 32 := Scalar.shrsi v1347 c3_i32_714
  let c8191_i32_715 : BitVec 32 := 8191#32
  let v1349 : BitVec 32 := Scalar.andi v1348 c8191_i32_715
  let v1357 : Index := Scalar.indexCast v1349
  let c0_719 : Index := 0#32
  ![v1357.toNat, 0]

def k0_chk86 (i : grid0.Coords) (v1347 : BitVec 32) : Prop :=
  (∀ (k0_h1 : k0_cond1 i = 1#1), 8 ∣ (k0_mult86 v1347).toNat) ∧
  (∀ (k0_h1 : k0_cond1 i = 1#1), ∀ a, (k0_off171 v1347) a + S8x128.size a ≤ S65536x128.size a) ∧
  (∀ (k0_h1 : k0_cond1 i = 1#1), ∀ a, (k0_off172 v1347) a + S1x128.size a ≤ S8192x128.size a)
theorem k0_mult86_dvd : ∀ (i : grid0.Coords) (v1347 : BitVec 32) (k0_hw86 : k0_chk86 i v1347), ∀ (k0_h1 : k0_cond1 i = 1#1), 8 ∣ (k0_mult86 v1347).toNat := fun i v1347 k0_hw86 k0_h1 => k0_hw86.1 k0_h1
theorem k0_off171_inb : ∀ (i : grid0.Coords) (v1347 : BitVec 32) (k0_hw86 : k0_chk86 i v1347), ∀ (k0_h1 : k0_cond1 i = 1#1), ∀ a, (k0_off171 v1347) a + S8x128.size a ≤ S65536x128.size a := fun i v1347 k0_hw86 k0_h1 => k0_hw86.2.1 k0_h1
theorem k0_off172_inb : ∀ (i : grid0.Coords) (v1347 : BitVec 32) (k0_hw86 : k0_chk86 i v1347), ∀ (k0_h1 : k0_cond1 i = 1#1), ∀ a, (k0_off172 v1347) a + S1x128.size a ≤ S8192x128.size a := fun i v1347 k0_hw86 k0_h1 => k0_hw86.2.2 k0_h1

def k0_mult87 (v1362 : BitVec 32) : BitVec 32 :=
  let c3_i32_722 : BitVec 32 := 3#32
  let v1363 : BitVec 32 := Scalar.shrsi v1362 c3_i32_722
  let c8191_i32_723 : BitVec 32 := 8191#32
  let v1364 : BitVec 32 := Scalar.andi v1363 c8191_i32_723
  let c8_i32_724 : BitVec 32 := 8#32
  let v1365 : BitVec 32 := Scalar.muli v1364 c8_i32_724
  v1365

def k0_off173 (v1362 : BitVec 32) : Fin 2 → Nat :=
  let c3_i32_722 : BitVec 32 := 3#32
  let v1363 : BitVec 32 := Scalar.shrsi v1362 c3_i32_722
  let c8191_i32_723 : BitVec 32 := 8191#32
  let v1364 : BitVec 32 := Scalar.andi v1363 c8191_i32_723
  let c8_i32_724 : BitVec 32 := 8#32
  let v1365 : BitVec 32 := Scalar.muli v1364 c8_i32_724
  let v1366 : BitVec 32 := v1365
  let v1367 : Index := Scalar.indexCast v1366
  let c0_725 : Index := 0#32
  ![v1367.toNat, 0]
def k0_off174 (v1362 : BitVec 32) : Fin 2 → Nat :=
  let c3_i32_722 : BitVec 32 := 3#32
  let v1363 : BitVec 32 := Scalar.shrsi v1362 c3_i32_722
  let c8191_i32_723 : BitVec 32 := 8191#32
  let v1364 : BitVec 32 := Scalar.andi v1363 c8191_i32_723
  let v1372 : Index := Scalar.indexCast v1364
  let c0_727 : Index := 0#32
  ![v1372.toNat, 0]

def k0_chk87 (i : grid0.Coords) (v1362 : BitVec 32) : Prop :=
  (∀ (k0_h1 : k0_cond1 i = 1#1), 8 ∣ (k0_mult87 v1362).toNat) ∧
  (∀ (k0_h1 : k0_cond1 i = 1#1), ∀ a, (k0_off173 v1362) a + S8x128.size a ≤ S65536x128.size a) ∧
  (∀ (k0_h1 : k0_cond1 i = 1#1), ∀ a, (k0_off174 v1362) a + S1x128.size a ≤ S8192x128.size a)
theorem k0_mult87_dvd : ∀ (i : grid0.Coords) (v1362 : BitVec 32) (k0_hw87 : k0_chk87 i v1362), ∀ (k0_h1 : k0_cond1 i = 1#1), 8 ∣ (k0_mult87 v1362).toNat := fun i v1362 k0_hw87 k0_h1 => k0_hw87.1 k0_h1
theorem k0_off173_inb : ∀ (i : grid0.Coords) (v1362 : BitVec 32) (k0_hw87 : k0_chk87 i v1362), ∀ (k0_h1 : k0_cond1 i = 1#1), ∀ a, (k0_off173 v1362) a + S8x128.size a ≤ S65536x128.size a := fun i v1362 k0_hw87 k0_h1 => k0_hw87.2.1 k0_h1
theorem k0_off174_inb : ∀ (i : grid0.Coords) (v1362 : BitVec 32) (k0_hw87 : k0_chk87 i v1362), ∀ (k0_h1 : k0_cond1 i = 1#1), ∀ a, (k0_off174 v1362) a + S1x128.size a ≤ S8192x128.size a := fun i v1362 k0_hw87 k0_h1 => k0_hw87.2.2 k0_h1

def k0_mult88 (v1377 : BitVec 32) : BitVec 32 :=
  let c3_i32_730 : BitVec 32 := 3#32
  let v1378 : BitVec 32 := Scalar.shrsi v1377 c3_i32_730
  let c8191_i32_731 : BitVec 32 := 8191#32
  let v1379 : BitVec 32 := Scalar.andi v1378 c8191_i32_731
  let c8_i32_732 : BitVec 32 := 8#32
  let v1380 : BitVec 32 := Scalar.muli v1379 c8_i32_732
  v1380

def k0_off175 (v1377 : BitVec 32) : Fin 2 → Nat :=
  let c3_i32_730 : BitVec 32 := 3#32
  let v1378 : BitVec 32 := Scalar.shrsi v1377 c3_i32_730
  let c8191_i32_731 : BitVec 32 := 8191#32
  let v1379 : BitVec 32 := Scalar.andi v1378 c8191_i32_731
  let c8_i32_732 : BitVec 32 := 8#32
  let v1380 : BitVec 32 := Scalar.muli v1379 c8_i32_732
  let v1381 : BitVec 32 := v1380
  let v1382 : Index := Scalar.indexCast v1381
  let c0_733 : Index := 0#32
  ![v1382.toNat, 0]
def k0_off176 (v1377 : BitVec 32) : Fin 2 → Nat :=
  let c3_i32_730 : BitVec 32 := 3#32
  let v1378 : BitVec 32 := Scalar.shrsi v1377 c3_i32_730
  let c8191_i32_731 : BitVec 32 := 8191#32
  let v1379 : BitVec 32 := Scalar.andi v1378 c8191_i32_731
  let v1387 : Index := Scalar.indexCast v1379
  let c0_735 : Index := 0#32
  ![v1387.toNat, 0]

def k0_chk88 (i : grid0.Coords) (v1377 : BitVec 32) : Prop :=
  (∀ (k0_h1 : k0_cond1 i = 1#1), 8 ∣ (k0_mult88 v1377).toNat) ∧
  (∀ (k0_h1 : k0_cond1 i = 1#1), ∀ a, (k0_off175 v1377) a + S8x128.size a ≤ S65536x128.size a) ∧
  (∀ (k0_h1 : k0_cond1 i = 1#1), ∀ a, (k0_off176 v1377) a + S1x128.size a ≤ S8192x128.size a)
theorem k0_mult88_dvd : ∀ (i : grid0.Coords) (v1377 : BitVec 32) (k0_hw88 : k0_chk88 i v1377), ∀ (k0_h1 : k0_cond1 i = 1#1), 8 ∣ (k0_mult88 v1377).toNat := fun i v1377 k0_hw88 k0_h1 => k0_hw88.1 k0_h1
theorem k0_off175_inb : ∀ (i : grid0.Coords) (v1377 : BitVec 32) (k0_hw88 : k0_chk88 i v1377), ∀ (k0_h1 : k0_cond1 i = 1#1), ∀ a, (k0_off175 v1377) a + S8x128.size a ≤ S65536x128.size a := fun i v1377 k0_hw88 k0_h1 => k0_hw88.2.1 k0_h1
theorem k0_off176_inb : ∀ (i : grid0.Coords) (v1377 : BitVec 32) (k0_hw88 : k0_chk88 i v1377), ∀ (k0_h1 : k0_cond1 i = 1#1), ∀ a, (k0_off176 v1377) a + S1x128.size a ≤ S8192x128.size a := fun i v1377 k0_hw88 k0_h1 => k0_hw88.2.2 k0_h1

def k0_mult89 (v1392 : BitVec 32) : BitVec 32 :=
  let c3_i32_739 : BitVec 32 := 3#32
  let v1393 : BitVec 32 := Scalar.shrsi v1392 c3_i32_739
  let c8191_i32_740 : BitVec 32 := 8191#32
  let v1394 : BitVec 32 := Scalar.andi v1393 c8191_i32_740
  let c8_i32_741 : BitVec 32 := 8#32
  let v1395 : BitVec 32 := Scalar.muli v1394 c8_i32_741
  v1395

def k0_off177 (v1392 : BitVec 32) : Fin 2 → Nat :=
  let c3_i32_739 : BitVec 32 := 3#32
  let v1393 : BitVec 32 := Scalar.shrsi v1392 c3_i32_739
  let c8191_i32_740 : BitVec 32 := 8191#32
  let v1394 : BitVec 32 := Scalar.andi v1393 c8191_i32_740
  let c8_i32_741 : BitVec 32 := 8#32
  let v1395 : BitVec 32 := Scalar.muli v1394 c8_i32_741
  let v1396 : BitVec 32 := v1395
  let v1397 : Index := Scalar.indexCast v1396
  let c0_742 : Index := 0#32
  ![v1397.toNat, 0]
def k0_off178 (v1392 : BitVec 32) : Fin 2 → Nat :=
  let c3_i32_739 : BitVec 32 := 3#32
  let v1393 : BitVec 32 := Scalar.shrsi v1392 c3_i32_739
  let c8191_i32_740 : BitVec 32 := 8191#32
  let v1394 : BitVec 32 := Scalar.andi v1393 c8191_i32_740
  let v1402 : Index := Scalar.indexCast v1394
  let c0_744 : Index := 0#32
  ![v1402.toNat, 0]

def k0_chk89 (i : grid0.Coords) (v1392 : BitVec 32) : Prop :=
  (∀ (k0_h1 : k0_cond1 i = 1#1), 8 ∣ (k0_mult89 v1392).toNat) ∧
  (∀ (k0_h1 : k0_cond1 i = 1#1), ∀ a, (k0_off177 v1392) a + S8x128.size a ≤ S65536x128.size a) ∧
  (∀ (k0_h1 : k0_cond1 i = 1#1), ∀ a, (k0_off178 v1392) a + S1x128.size a ≤ S8192x128.size a)
theorem k0_mult89_dvd : ∀ (i : grid0.Coords) (v1392 : BitVec 32) (k0_hw89 : k0_chk89 i v1392), ∀ (k0_h1 : k0_cond1 i = 1#1), 8 ∣ (k0_mult89 v1392).toNat := fun i v1392 k0_hw89 k0_h1 => k0_hw89.1 k0_h1
theorem k0_off177_inb : ∀ (i : grid0.Coords) (v1392 : BitVec 32) (k0_hw89 : k0_chk89 i v1392), ∀ (k0_h1 : k0_cond1 i = 1#1), ∀ a, (k0_off177 v1392) a + S8x128.size a ≤ S65536x128.size a := fun i v1392 k0_hw89 k0_h1 => k0_hw89.2.1 k0_h1
theorem k0_off178_inb : ∀ (i : grid0.Coords) (v1392 : BitVec 32) (k0_hw89 : k0_chk89 i v1392), ∀ (k0_h1 : k0_cond1 i = 1#1), ∀ a, (k0_off178 v1392) a + S1x128.size a ≤ S8192x128.size a := fun i v1392 k0_hw89 k0_h1 => k0_hw89.2.2 k0_h1

def k0_mult90 (v1407 : BitVec 32) : BitVec 32 :=
  let c3_i32_747 : BitVec 32 := 3#32
  let v1408 : BitVec 32 := Scalar.shrsi v1407 c3_i32_747
  let c8191_i32_748 : BitVec 32 := 8191#32
  let v1409 : BitVec 32 := Scalar.andi v1408 c8191_i32_748
  let c8_i32_749 : BitVec 32 := 8#32
  let v1410 : BitVec 32 := Scalar.muli v1409 c8_i32_749
  v1410

def k0_off179 (v1407 : BitVec 32) : Fin 2 → Nat :=
  let c3_i32_747 : BitVec 32 := 3#32
  let v1408 : BitVec 32 := Scalar.shrsi v1407 c3_i32_747
  let c8191_i32_748 : BitVec 32 := 8191#32
  let v1409 : BitVec 32 := Scalar.andi v1408 c8191_i32_748
  let c8_i32_749 : BitVec 32 := 8#32
  let v1410 : BitVec 32 := Scalar.muli v1409 c8_i32_749
  let v1411 : BitVec 32 := v1410
  let v1412 : Index := Scalar.indexCast v1411
  let c0_750 : Index := 0#32
  ![v1412.toNat, 0]
def k0_off180 (v1407 : BitVec 32) : Fin 2 → Nat :=
  let c3_i32_747 : BitVec 32 := 3#32
  let v1408 : BitVec 32 := Scalar.shrsi v1407 c3_i32_747
  let c8191_i32_748 : BitVec 32 := 8191#32
  let v1409 : BitVec 32 := Scalar.andi v1408 c8191_i32_748
  let v1417 : Index := Scalar.indexCast v1409
  let c0_752 : Index := 0#32
  ![v1417.toNat, 0]

def k0_chk90 (i : grid0.Coords) (v1407 : BitVec 32) : Prop :=
  (∀ (k0_h1 : k0_cond1 i = 1#1), 8 ∣ (k0_mult90 v1407).toNat) ∧
  (∀ (k0_h1 : k0_cond1 i = 1#1), ∀ a, (k0_off179 v1407) a + S8x128.size a ≤ S65536x128.size a) ∧
  (∀ (k0_h1 : k0_cond1 i = 1#1), ∀ a, (k0_off180 v1407) a + S1x128.size a ≤ S8192x128.size a)
theorem k0_mult90_dvd : ∀ (i : grid0.Coords) (v1407 : BitVec 32) (k0_hw90 : k0_chk90 i v1407), ∀ (k0_h1 : k0_cond1 i = 1#1), 8 ∣ (k0_mult90 v1407).toNat := fun i v1407 k0_hw90 k0_h1 => k0_hw90.1 k0_h1
theorem k0_off179_inb : ∀ (i : grid0.Coords) (v1407 : BitVec 32) (k0_hw90 : k0_chk90 i v1407), ∀ (k0_h1 : k0_cond1 i = 1#1), ∀ a, (k0_off179 v1407) a + S8x128.size a ≤ S65536x128.size a := fun i v1407 k0_hw90 k0_h1 => k0_hw90.2.1 k0_h1
theorem k0_off180_inb : ∀ (i : grid0.Coords) (v1407 : BitVec 32) (k0_hw90 : k0_chk90 i v1407), ∀ (k0_h1 : k0_cond1 i = 1#1), ∀ a, (k0_off180 v1407) a + S1x128.size a ≤ S8192x128.size a := fun i v1407 k0_hw90 k0_h1 => k0_hw90.2.2 k0_h1

def k0_mult91 (v1422 : BitVec 32) : BitVec 32 :=
  let c3_i32_755 : BitVec 32 := 3#32
  let v1423 : BitVec 32 := Scalar.shrsi v1422 c3_i32_755
  let c8191_i32_756 : BitVec 32 := 8191#32
  let v1424 : BitVec 32 := Scalar.andi v1423 c8191_i32_756
  let c8_i32_757 : BitVec 32 := 8#32
  let v1425 : BitVec 32 := Scalar.muli v1424 c8_i32_757
  v1425

def k0_off181 (v1422 : BitVec 32) : Fin 2 → Nat :=
  let c3_i32_755 : BitVec 32 := 3#32
  let v1423 : BitVec 32 := Scalar.shrsi v1422 c3_i32_755
  let c8191_i32_756 : BitVec 32 := 8191#32
  let v1424 : BitVec 32 := Scalar.andi v1423 c8191_i32_756
  let c8_i32_757 : BitVec 32 := 8#32
  let v1425 : BitVec 32 := Scalar.muli v1424 c8_i32_757
  let v1426 : BitVec 32 := v1425
  let v1427 : Index := Scalar.indexCast v1426
  let c0_758 : Index := 0#32
  ![v1427.toNat, 0]
def k0_off182 (v1422 : BitVec 32) : Fin 2 → Nat :=
  let c3_i32_755 : BitVec 32 := 3#32
  let v1423 : BitVec 32 := Scalar.shrsi v1422 c3_i32_755
  let c8191_i32_756 : BitVec 32 := 8191#32
  let v1424 : BitVec 32 := Scalar.andi v1423 c8191_i32_756
  let v1432 : Index := Scalar.indexCast v1424
  let c0_760 : Index := 0#32
  ![v1432.toNat, 0]

def k0_chk91 (i : grid0.Coords) (v1422 : BitVec 32) : Prop :=
  (∀ (k0_h1 : k0_cond1 i = 1#1), 8 ∣ (k0_mult91 v1422).toNat) ∧
  (∀ (k0_h1 : k0_cond1 i = 1#1), ∀ a, (k0_off181 v1422) a + S8x128.size a ≤ S65536x128.size a) ∧
  (∀ (k0_h1 : k0_cond1 i = 1#1), ∀ a, (k0_off182 v1422) a + S1x128.size a ≤ S8192x128.size a)
theorem k0_mult91_dvd : ∀ (i : grid0.Coords) (v1422 : BitVec 32) (k0_hw91 : k0_chk91 i v1422), ∀ (k0_h1 : k0_cond1 i = 1#1), 8 ∣ (k0_mult91 v1422).toNat := fun i v1422 k0_hw91 k0_h1 => k0_hw91.1 k0_h1
theorem k0_off181_inb : ∀ (i : grid0.Coords) (v1422 : BitVec 32) (k0_hw91 : k0_chk91 i v1422), ∀ (k0_h1 : k0_cond1 i = 1#1), ∀ a, (k0_off181 v1422) a + S8x128.size a ≤ S65536x128.size a := fun i v1422 k0_hw91 k0_h1 => k0_hw91.2.1 k0_h1
theorem k0_off182_inb : ∀ (i : grid0.Coords) (v1422 : BitVec 32) (k0_hw91 : k0_chk91 i v1422), ∀ (k0_h1 : k0_cond1 i = 1#1), ∀ a, (k0_off182 v1422) a + S1x128.size a ≤ S8192x128.size a := fun i v1422 k0_hw91 k0_h1 => k0_hw91.2.2 k0_h1

def k0_mult92 (v1437 : BitVec 32) : BitVec 32 :=
  let c3_i32_763 : BitVec 32 := 3#32
  let v1438 : BitVec 32 := Scalar.shrsi v1437 c3_i32_763
  let c8191_i32_764 : BitVec 32 := 8191#32
  let v1439 : BitVec 32 := Scalar.andi v1438 c8191_i32_764
  let c8_i32_765 : BitVec 32 := 8#32
  let v1440 : BitVec 32 := Scalar.muli v1439 c8_i32_765
  v1440

def k0_off183 (v1437 : BitVec 32) : Fin 2 → Nat :=
  let c3_i32_763 : BitVec 32 := 3#32
  let v1438 : BitVec 32 := Scalar.shrsi v1437 c3_i32_763
  let c8191_i32_764 : BitVec 32 := 8191#32
  let v1439 : BitVec 32 := Scalar.andi v1438 c8191_i32_764
  let c8_i32_765 : BitVec 32 := 8#32
  let v1440 : BitVec 32 := Scalar.muli v1439 c8_i32_765
  let v1441 : BitVec 32 := v1440
  let v1442 : Index := Scalar.indexCast v1441
  let c0_766 : Index := 0#32
  ![v1442.toNat, 0]
def k0_off184 (v1437 : BitVec 32) : Fin 2 → Nat :=
  let c3_i32_763 : BitVec 32 := 3#32
  let v1438 : BitVec 32 := Scalar.shrsi v1437 c3_i32_763
  let c8191_i32_764 : BitVec 32 := 8191#32
  let v1439 : BitVec 32 := Scalar.andi v1438 c8191_i32_764
  let v1447 : Index := Scalar.indexCast v1439
  let c0_768 : Index := 0#32
  ![v1447.toNat, 0]

def k0_chk92 (i : grid0.Coords) (v1437 : BitVec 32) : Prop :=
  (∀ (k0_h1 : k0_cond1 i = 1#1), 8 ∣ (k0_mult92 v1437).toNat) ∧
  (∀ (k0_h1 : k0_cond1 i = 1#1), ∀ a, (k0_off183 v1437) a + S8x128.size a ≤ S65536x128.size a) ∧
  (∀ (k0_h1 : k0_cond1 i = 1#1), ∀ a, (k0_off184 v1437) a + S1x128.size a ≤ S8192x128.size a)
theorem k0_mult92_dvd : ∀ (i : grid0.Coords) (v1437 : BitVec 32) (k0_hw92 : k0_chk92 i v1437), ∀ (k0_h1 : k0_cond1 i = 1#1), 8 ∣ (k0_mult92 v1437).toNat := fun i v1437 k0_hw92 k0_h1 => k0_hw92.1 k0_h1
theorem k0_off183_inb : ∀ (i : grid0.Coords) (v1437 : BitVec 32) (k0_hw92 : k0_chk92 i v1437), ∀ (k0_h1 : k0_cond1 i = 1#1), ∀ a, (k0_off183 v1437) a + S8x128.size a ≤ S65536x128.size a := fun i v1437 k0_hw92 k0_h1 => k0_hw92.2.1 k0_h1
theorem k0_off184_inb : ∀ (i : grid0.Coords) (v1437 : BitVec 32) (k0_hw92 : k0_chk92 i v1437), ∀ (k0_h1 : k0_cond1 i = 1#1), ∀ a, (k0_off184 v1437) a + S1x128.size a ≤ S8192x128.size a := fun i v1437 k0_hw92 k0_h1 => k0_hw92.2.2 k0_h1

def k0_mult93 (v1452 : BitVec 32) : BitVec 32 :=
  let c3_i32_771 : BitVec 32 := 3#32
  let v1453 : BitVec 32 := Scalar.shrsi v1452 c3_i32_771
  let c8191_i32_772 : BitVec 32 := 8191#32
  let v1454 : BitVec 32 := Scalar.andi v1453 c8191_i32_772
  let c8_i32_773 : BitVec 32 := 8#32
  let v1455 : BitVec 32 := Scalar.muli v1454 c8_i32_773
  v1455

def k0_off185 (v1452 : BitVec 32) : Fin 2 → Nat :=
  let c3_i32_771 : BitVec 32 := 3#32
  let v1453 : BitVec 32 := Scalar.shrsi v1452 c3_i32_771
  let c8191_i32_772 : BitVec 32 := 8191#32
  let v1454 : BitVec 32 := Scalar.andi v1453 c8191_i32_772
  let c8_i32_773 : BitVec 32 := 8#32
  let v1455 : BitVec 32 := Scalar.muli v1454 c8_i32_773
  let v1456 : BitVec 32 := v1455
  let v1457 : Index := Scalar.indexCast v1456
  let c0_774 : Index := 0#32
  ![v1457.toNat, 0]
def k0_off186 (v1452 : BitVec 32) : Fin 2 → Nat :=
  let c3_i32_771 : BitVec 32 := 3#32
  let v1453 : BitVec 32 := Scalar.shrsi v1452 c3_i32_771
  let c8191_i32_772 : BitVec 32 := 8191#32
  let v1454 : BitVec 32 := Scalar.andi v1453 c8191_i32_772
  let v1462 : Index := Scalar.indexCast v1454
  let c0_776 : Index := 0#32
  ![v1462.toNat, 0]

def k0_chk93 (i : grid0.Coords) (v1452 : BitVec 32) : Prop :=
  (∀ (k0_h1 : k0_cond1 i = 1#1), 8 ∣ (k0_mult93 v1452).toNat) ∧
  (∀ (k0_h1 : k0_cond1 i = 1#1), ∀ a, (k0_off185 v1452) a + S8x128.size a ≤ S65536x128.size a) ∧
  (∀ (k0_h1 : k0_cond1 i = 1#1), ∀ a, (k0_off186 v1452) a + S1x128.size a ≤ S8192x128.size a)
theorem k0_mult93_dvd : ∀ (i : grid0.Coords) (v1452 : BitVec 32) (k0_hw93 : k0_chk93 i v1452), ∀ (k0_h1 : k0_cond1 i = 1#1), 8 ∣ (k0_mult93 v1452).toNat := fun i v1452 k0_hw93 k0_h1 => k0_hw93.1 k0_h1
theorem k0_off185_inb : ∀ (i : grid0.Coords) (v1452 : BitVec 32) (k0_hw93 : k0_chk93 i v1452), ∀ (k0_h1 : k0_cond1 i = 1#1), ∀ a, (k0_off185 v1452) a + S8x128.size a ≤ S65536x128.size a := fun i v1452 k0_hw93 k0_h1 => k0_hw93.2.1 k0_h1
theorem k0_off186_inb : ∀ (i : grid0.Coords) (v1452 : BitVec 32) (k0_hw93 : k0_chk93 i v1452), ∀ (k0_h1 : k0_cond1 i = 1#1), ∀ a, (k0_off186 v1452) a + S1x128.size a ≤ S8192x128.size a := fun i v1452 k0_hw93 k0_h1 => k0_hw93.2.2 k0_h1

def k0_mult94 (v1467 : BitVec 32) : BitVec 32 :=
  let c3_i32_779 : BitVec 32 := 3#32
  let v1468 : BitVec 32 := Scalar.shrsi v1467 c3_i32_779
  let c8191_i32_780 : BitVec 32 := 8191#32
  let v1469 : BitVec 32 := Scalar.andi v1468 c8191_i32_780
  let c8_i32_781 : BitVec 32 := 8#32
  let v1470 : BitVec 32 := Scalar.muli v1469 c8_i32_781
  v1470

def k0_off187 (v1467 : BitVec 32) : Fin 2 → Nat :=
  let c3_i32_779 : BitVec 32 := 3#32
  let v1468 : BitVec 32 := Scalar.shrsi v1467 c3_i32_779
  let c8191_i32_780 : BitVec 32 := 8191#32
  let v1469 : BitVec 32 := Scalar.andi v1468 c8191_i32_780
  let c8_i32_781 : BitVec 32 := 8#32
  let v1470 : BitVec 32 := Scalar.muli v1469 c8_i32_781
  let v1471 : BitVec 32 := v1470
  let v1472 : Index := Scalar.indexCast v1471
  let c0_782 : Index := 0#32
  ![v1472.toNat, 0]
def k0_off188 (v1467 : BitVec 32) : Fin 2 → Nat :=
  let c3_i32_779 : BitVec 32 := 3#32
  let v1468 : BitVec 32 := Scalar.shrsi v1467 c3_i32_779
  let c8191_i32_780 : BitVec 32 := 8191#32
  let v1469 : BitVec 32 := Scalar.andi v1468 c8191_i32_780
  let v1477 : Index := Scalar.indexCast v1469
  let c0_784 : Index := 0#32
  ![v1477.toNat, 0]

def k0_chk94 (i : grid0.Coords) (v1467 : BitVec 32) : Prop :=
  (∀ (k0_h1 : k0_cond1 i = 1#1), 8 ∣ (k0_mult94 v1467).toNat) ∧
  (∀ (k0_h1 : k0_cond1 i = 1#1), ∀ a, (k0_off187 v1467) a + S8x128.size a ≤ S65536x128.size a) ∧
  (∀ (k0_h1 : k0_cond1 i = 1#1), ∀ a, (k0_off188 v1467) a + S1x128.size a ≤ S8192x128.size a)
theorem k0_mult94_dvd : ∀ (i : grid0.Coords) (v1467 : BitVec 32) (k0_hw94 : k0_chk94 i v1467), ∀ (k0_h1 : k0_cond1 i = 1#1), 8 ∣ (k0_mult94 v1467).toNat := fun i v1467 k0_hw94 k0_h1 => k0_hw94.1 k0_h1
theorem k0_off187_inb : ∀ (i : grid0.Coords) (v1467 : BitVec 32) (k0_hw94 : k0_chk94 i v1467), ∀ (k0_h1 : k0_cond1 i = 1#1), ∀ a, (k0_off187 v1467) a + S8x128.size a ≤ S65536x128.size a := fun i v1467 k0_hw94 k0_h1 => k0_hw94.2.1 k0_h1
theorem k0_off188_inb : ∀ (i : grid0.Coords) (v1467 : BitVec 32) (k0_hw94 : k0_chk94 i v1467), ∀ (k0_h1 : k0_cond1 i = 1#1), ∀ a, (k0_off188 v1467) a + S1x128.size a ≤ S8192x128.size a := fun i v1467 k0_hw94 k0_h1 => k0_hw94.2.2 k0_h1

def k0_mult95 (v1482 : BitVec 32) : BitVec 32 :=
  let c3_i32_787 : BitVec 32 := 3#32
  let v1483 : BitVec 32 := Scalar.shrsi v1482 c3_i32_787
  let c8191_i32_788 : BitVec 32 := 8191#32
  let v1484 : BitVec 32 := Scalar.andi v1483 c8191_i32_788
  let c8_i32_789 : BitVec 32 := 8#32
  let v1485 : BitVec 32 := Scalar.muli v1484 c8_i32_789
  v1485

def k0_off189 (v1482 : BitVec 32) : Fin 2 → Nat :=
  let c3_i32_787 : BitVec 32 := 3#32
  let v1483 : BitVec 32 := Scalar.shrsi v1482 c3_i32_787
  let c8191_i32_788 : BitVec 32 := 8191#32
  let v1484 : BitVec 32 := Scalar.andi v1483 c8191_i32_788
  let c8_i32_789 : BitVec 32 := 8#32
  let v1485 : BitVec 32 := Scalar.muli v1484 c8_i32_789
  let v1486 : BitVec 32 := v1485
  let v1487 : Index := Scalar.indexCast v1486
  let c0_790 : Index := 0#32
  ![v1487.toNat, 0]
def k0_off190 (v1482 : BitVec 32) : Fin 2 → Nat :=
  let c3_i32_787 : BitVec 32 := 3#32
  let v1483 : BitVec 32 := Scalar.shrsi v1482 c3_i32_787
  let c8191_i32_788 : BitVec 32 := 8191#32
  let v1484 : BitVec 32 := Scalar.andi v1483 c8191_i32_788
  let v1492 : Index := Scalar.indexCast v1484
  let c0_792 : Index := 0#32
  ![v1492.toNat, 0]

def k0_chk95 (i : grid0.Coords) (v1482 : BitVec 32) : Prop :=
  (∀ (k0_h1 : k0_cond1 i = 1#1), 8 ∣ (k0_mult95 v1482).toNat) ∧
  (∀ (k0_h1 : k0_cond1 i = 1#1), ∀ a, (k0_off189 v1482) a + S8x128.size a ≤ S65536x128.size a) ∧
  (∀ (k0_h1 : k0_cond1 i = 1#1), ∀ a, (k0_off190 v1482) a + S1x128.size a ≤ S8192x128.size a)
theorem k0_mult95_dvd : ∀ (i : grid0.Coords) (v1482 : BitVec 32) (k0_hw95 : k0_chk95 i v1482), ∀ (k0_h1 : k0_cond1 i = 1#1), 8 ∣ (k0_mult95 v1482).toNat := fun i v1482 k0_hw95 k0_h1 => k0_hw95.1 k0_h1
theorem k0_off189_inb : ∀ (i : grid0.Coords) (v1482 : BitVec 32) (k0_hw95 : k0_chk95 i v1482), ∀ (k0_h1 : k0_cond1 i = 1#1), ∀ a, (k0_off189 v1482) a + S8x128.size a ≤ S65536x128.size a := fun i v1482 k0_hw95 k0_h1 => k0_hw95.2.1 k0_h1
theorem k0_off190_inb : ∀ (i : grid0.Coords) (v1482 : BitVec 32) (k0_hw95 : k0_chk95 i v1482), ∀ (k0_h1 : k0_cond1 i = 1#1), ∀ a, (k0_off190 v1482) a + S1x128.size a ≤ S8192x128.size a := fun i v1482 k0_hw95 k0_h1 => k0_hw95.2.2 k0_h1

def k0_mult96 (v1497 : BitVec 32) : BitVec 32 :=
  let c3_i32_795 : BitVec 32 := 3#32
  let v1498 : BitVec 32 := Scalar.shrsi v1497 c3_i32_795
  let c8191_i32_796 : BitVec 32 := 8191#32
  let v1499 : BitVec 32 := Scalar.andi v1498 c8191_i32_796
  let c8_i32_797 : BitVec 32 := 8#32
  let v1500 : BitVec 32 := Scalar.muli v1499 c8_i32_797
  v1500

def k0_off191 (v1497 : BitVec 32) : Fin 2 → Nat :=
  let c3_i32_795 : BitVec 32 := 3#32
  let v1498 : BitVec 32 := Scalar.shrsi v1497 c3_i32_795
  let c8191_i32_796 : BitVec 32 := 8191#32
  let v1499 : BitVec 32 := Scalar.andi v1498 c8191_i32_796
  let c8_i32_797 : BitVec 32 := 8#32
  let v1500 : BitVec 32 := Scalar.muli v1499 c8_i32_797
  let v1501 : BitVec 32 := v1500
  let v1502 : Index := Scalar.indexCast v1501
  let c0_798 : Index := 0#32
  ![v1502.toNat, 0]
def k0_off192 (v1497 : BitVec 32) : Fin 2 → Nat :=
  let c3_i32_795 : BitVec 32 := 3#32
  let v1498 : BitVec 32 := Scalar.shrsi v1497 c3_i32_795
  let c8191_i32_796 : BitVec 32 := 8191#32
  let v1499 : BitVec 32 := Scalar.andi v1498 c8191_i32_796
  let v1507 : Index := Scalar.indexCast v1499
  let c0_800 : Index := 0#32
  ![v1507.toNat, 0]

def k0_chk96 (i : grid0.Coords) (v1497 : BitVec 32) : Prop :=
  (∀ (k0_h1 : k0_cond1 i = 1#1), 8 ∣ (k0_mult96 v1497).toNat) ∧
  (∀ (k0_h1 : k0_cond1 i = 1#1), ∀ a, (k0_off191 v1497) a + S8x128.size a ≤ S65536x128.size a) ∧
  (∀ (k0_h1 : k0_cond1 i = 1#1), ∀ a, (k0_off192 v1497) a + S1x128.size a ≤ S8192x128.size a)
theorem k0_mult96_dvd : ∀ (i : grid0.Coords) (v1497 : BitVec 32) (k0_hw96 : k0_chk96 i v1497), ∀ (k0_h1 : k0_cond1 i = 1#1), 8 ∣ (k0_mult96 v1497).toNat := fun i v1497 k0_hw96 k0_h1 => k0_hw96.1 k0_h1
theorem k0_off191_inb : ∀ (i : grid0.Coords) (v1497 : BitVec 32) (k0_hw96 : k0_chk96 i v1497), ∀ (k0_h1 : k0_cond1 i = 1#1), ∀ a, (k0_off191 v1497) a + S8x128.size a ≤ S65536x128.size a := fun i v1497 k0_hw96 k0_h1 => k0_hw96.2.1 k0_h1
theorem k0_off192_inb : ∀ (i : grid0.Coords) (v1497 : BitVec 32) (k0_hw96 : k0_chk96 i v1497), ∀ (k0_h1 : k0_cond1 i = 1#1), ∀ a, (k0_off192 v1497) a + S1x128.size a ≤ S8192x128.size a := fun i v1497 k0_hw96 k0_h1 => k0_hw96.2.2 k0_h1

def k0_mult97 (v1512 : BitVec 32) : BitVec 32 :=
  let c3_i32_804 : BitVec 32 := 3#32
  let v1513 : BitVec 32 := Scalar.shrsi v1512 c3_i32_804
  let c8191_i32_805 : BitVec 32 := 8191#32
  let v1514 : BitVec 32 := Scalar.andi v1513 c8191_i32_805
  let c8_i32_806 : BitVec 32 := 8#32
  let v1515 : BitVec 32 := Scalar.muli v1514 c8_i32_806
  v1515

def k0_off193 (v1512 : BitVec 32) : Fin 2 → Nat :=
  let c3_i32_804 : BitVec 32 := 3#32
  let v1513 : BitVec 32 := Scalar.shrsi v1512 c3_i32_804
  let c8191_i32_805 : BitVec 32 := 8191#32
  let v1514 : BitVec 32 := Scalar.andi v1513 c8191_i32_805
  let c8_i32_806 : BitVec 32 := 8#32
  let v1515 : BitVec 32 := Scalar.muli v1514 c8_i32_806
  let v1516 : BitVec 32 := v1515
  let v1517 : Index := Scalar.indexCast v1516
  let c0_807 : Index := 0#32
  ![v1517.toNat, 0]
def k0_off194 (v1512 : BitVec 32) : Fin 2 → Nat :=
  let c3_i32_804 : BitVec 32 := 3#32
  let v1513 : BitVec 32 := Scalar.shrsi v1512 c3_i32_804
  let c8191_i32_805 : BitVec 32 := 8191#32
  let v1514 : BitVec 32 := Scalar.andi v1513 c8191_i32_805
  let v1522 : Index := Scalar.indexCast v1514
  let c0_809 : Index := 0#32
  ![v1522.toNat, 0]

def k0_chk97 (i : grid0.Coords) (v1512 : BitVec 32) : Prop :=
  (∀ (k0_h1 : k0_cond1 i = 1#1), 8 ∣ (k0_mult97 v1512).toNat) ∧
  (∀ (k0_h1 : k0_cond1 i = 1#1), ∀ a, (k0_off193 v1512) a + S8x128.size a ≤ S65536x128.size a) ∧
  (∀ (k0_h1 : k0_cond1 i = 1#1), ∀ a, (k0_off194 v1512) a + S1x128.size a ≤ S8192x128.size a)
theorem k0_mult97_dvd : ∀ (i : grid0.Coords) (v1512 : BitVec 32) (k0_hw97 : k0_chk97 i v1512), ∀ (k0_h1 : k0_cond1 i = 1#1), 8 ∣ (k0_mult97 v1512).toNat := fun i v1512 k0_hw97 k0_h1 => k0_hw97.1 k0_h1
theorem k0_off193_inb : ∀ (i : grid0.Coords) (v1512 : BitVec 32) (k0_hw97 : k0_chk97 i v1512), ∀ (k0_h1 : k0_cond1 i = 1#1), ∀ a, (k0_off193 v1512) a + S8x128.size a ≤ S65536x128.size a := fun i v1512 k0_hw97 k0_h1 => k0_hw97.2.1 k0_h1
theorem k0_off194_inb : ∀ (i : grid0.Coords) (v1512 : BitVec 32) (k0_hw97 : k0_chk97 i v1512), ∀ (k0_h1 : k0_cond1 i = 1#1), ∀ a, (k0_off194 v1512) a + S1x128.size a ≤ S8192x128.size a := fun i v1512 k0_hw97 k0_h1 => k0_hw97.2.2 k0_h1

def k0_mult98 (v1527 : BitVec 32) : BitVec 32 :=
  let c3_i32_812 : BitVec 32 := 3#32
  let v1528 : BitVec 32 := Scalar.shrsi v1527 c3_i32_812
  let c8191_i32_813 : BitVec 32 := 8191#32
  let v1529 : BitVec 32 := Scalar.andi v1528 c8191_i32_813
  let c8_i32_814 : BitVec 32 := 8#32
  let v1530 : BitVec 32 := Scalar.muli v1529 c8_i32_814
  v1530

def k0_off195 (v1527 : BitVec 32) : Fin 2 → Nat :=
  let c3_i32_812 : BitVec 32 := 3#32
  let v1528 : BitVec 32 := Scalar.shrsi v1527 c3_i32_812
  let c8191_i32_813 : BitVec 32 := 8191#32
  let v1529 : BitVec 32 := Scalar.andi v1528 c8191_i32_813
  let c8_i32_814 : BitVec 32 := 8#32
  let v1530 : BitVec 32 := Scalar.muli v1529 c8_i32_814
  let v1531 : BitVec 32 := v1530
  let v1532 : Index := Scalar.indexCast v1531
  let c0_815 : Index := 0#32
  ![v1532.toNat, 0]
def k0_off196 (v1527 : BitVec 32) : Fin 2 → Nat :=
  let c3_i32_812 : BitVec 32 := 3#32
  let v1528 : BitVec 32 := Scalar.shrsi v1527 c3_i32_812
  let c8191_i32_813 : BitVec 32 := 8191#32
  let v1529 : BitVec 32 := Scalar.andi v1528 c8191_i32_813
  let v1537 : Index := Scalar.indexCast v1529
  let c0_817 : Index := 0#32
  ![v1537.toNat, 0]

def k0_chk98 (i : grid0.Coords) (v1527 : BitVec 32) : Prop :=
  (∀ (k0_h1 : k0_cond1 i = 1#1), 8 ∣ (k0_mult98 v1527).toNat) ∧
  (∀ (k0_h1 : k0_cond1 i = 1#1), ∀ a, (k0_off195 v1527) a + S8x128.size a ≤ S65536x128.size a) ∧
  (∀ (k0_h1 : k0_cond1 i = 1#1), ∀ a, (k0_off196 v1527) a + S1x128.size a ≤ S8192x128.size a)
theorem k0_mult98_dvd : ∀ (i : grid0.Coords) (v1527 : BitVec 32) (k0_hw98 : k0_chk98 i v1527), ∀ (k0_h1 : k0_cond1 i = 1#1), 8 ∣ (k0_mult98 v1527).toNat := fun i v1527 k0_hw98 k0_h1 => k0_hw98.1 k0_h1
theorem k0_off195_inb : ∀ (i : grid0.Coords) (v1527 : BitVec 32) (k0_hw98 : k0_chk98 i v1527), ∀ (k0_h1 : k0_cond1 i = 1#1), ∀ a, (k0_off195 v1527) a + S8x128.size a ≤ S65536x128.size a := fun i v1527 k0_hw98 k0_h1 => k0_hw98.2.1 k0_h1
theorem k0_off196_inb : ∀ (i : grid0.Coords) (v1527 : BitVec 32) (k0_hw98 : k0_chk98 i v1527), ∀ (k0_h1 : k0_cond1 i = 1#1), ∀ a, (k0_off196 v1527) a + S1x128.size a ≤ S8192x128.size a := fun i v1527 k0_hw98 k0_h1 => k0_hw98.2.2 k0_h1

def k0_mult99 (v1542 : BitVec 32) : BitVec 32 :=
  let c3_i32_820 : BitVec 32 := 3#32
  let v1543 : BitVec 32 := Scalar.shrsi v1542 c3_i32_820
  let c8191_i32_821 : BitVec 32 := 8191#32
  let v1544 : BitVec 32 := Scalar.andi v1543 c8191_i32_821
  let c8_i32_822 : BitVec 32 := 8#32
  let v1545 : BitVec 32 := Scalar.muli v1544 c8_i32_822
  v1545

def k0_off197 (v1542 : BitVec 32) : Fin 2 → Nat :=
  let c3_i32_820 : BitVec 32 := 3#32
  let v1543 : BitVec 32 := Scalar.shrsi v1542 c3_i32_820
  let c8191_i32_821 : BitVec 32 := 8191#32
  let v1544 : BitVec 32 := Scalar.andi v1543 c8191_i32_821
  let c8_i32_822 : BitVec 32 := 8#32
  let v1545 : BitVec 32 := Scalar.muli v1544 c8_i32_822
  let v1546 : BitVec 32 := v1545
  let v1547 : Index := Scalar.indexCast v1546
  let c0_823 : Index := 0#32
  ![v1547.toNat, 0]
def k0_off198 (v1542 : BitVec 32) : Fin 2 → Nat :=
  let c3_i32_820 : BitVec 32 := 3#32
  let v1543 : BitVec 32 := Scalar.shrsi v1542 c3_i32_820
  let c8191_i32_821 : BitVec 32 := 8191#32
  let v1544 : BitVec 32 := Scalar.andi v1543 c8191_i32_821
  let v1552 : Index := Scalar.indexCast v1544
  let c0_825 : Index := 0#32
  ![v1552.toNat, 0]

def k0_chk99 (i : grid0.Coords) (v1542 : BitVec 32) : Prop :=
  (∀ (k0_h1 : k0_cond1 i = 1#1), 8 ∣ (k0_mult99 v1542).toNat) ∧
  (∀ (k0_h1 : k0_cond1 i = 1#1), ∀ a, (k0_off197 v1542) a + S8x128.size a ≤ S65536x128.size a) ∧
  (∀ (k0_h1 : k0_cond1 i = 1#1), ∀ a, (k0_off198 v1542) a + S1x128.size a ≤ S8192x128.size a)
theorem k0_mult99_dvd : ∀ (i : grid0.Coords) (v1542 : BitVec 32) (k0_hw99 : k0_chk99 i v1542), ∀ (k0_h1 : k0_cond1 i = 1#1), 8 ∣ (k0_mult99 v1542).toNat := fun i v1542 k0_hw99 k0_h1 => k0_hw99.1 k0_h1
theorem k0_off197_inb : ∀ (i : grid0.Coords) (v1542 : BitVec 32) (k0_hw99 : k0_chk99 i v1542), ∀ (k0_h1 : k0_cond1 i = 1#1), ∀ a, (k0_off197 v1542) a + S8x128.size a ≤ S65536x128.size a := fun i v1542 k0_hw99 k0_h1 => k0_hw99.2.1 k0_h1
theorem k0_off198_inb : ∀ (i : grid0.Coords) (v1542 : BitVec 32) (k0_hw99 : k0_chk99 i v1542), ∀ (k0_h1 : k0_cond1 i = 1#1), ∀ a, (k0_off198 v1542) a + S1x128.size a ≤ S8192x128.size a := fun i v1542 k0_hw99 k0_h1 => k0_hw99.2.2 k0_h1

def k0_mult100 (v1557 : BitVec 32) : BitVec 32 :=
  let c3_i32_828 : BitVec 32 := 3#32
  let v1558 : BitVec 32 := Scalar.shrsi v1557 c3_i32_828
  let c8191_i32_829 : BitVec 32 := 8191#32
  let v1559 : BitVec 32 := Scalar.andi v1558 c8191_i32_829
  let c8_i32_830 : BitVec 32 := 8#32
  let v1560 : BitVec 32 := Scalar.muli v1559 c8_i32_830
  v1560

def k0_off199 (v1557 : BitVec 32) : Fin 2 → Nat :=
  let c3_i32_828 : BitVec 32 := 3#32
  let v1558 : BitVec 32 := Scalar.shrsi v1557 c3_i32_828
  let c8191_i32_829 : BitVec 32 := 8191#32
  let v1559 : BitVec 32 := Scalar.andi v1558 c8191_i32_829
  let c8_i32_830 : BitVec 32 := 8#32
  let v1560 : BitVec 32 := Scalar.muli v1559 c8_i32_830
  let v1561 : BitVec 32 := v1560
  let v1562 : Index := Scalar.indexCast v1561
  let c0_831 : Index := 0#32
  ![v1562.toNat, 0]
def k0_off200 (v1557 : BitVec 32) : Fin 2 → Nat :=
  let c3_i32_828 : BitVec 32 := 3#32
  let v1558 : BitVec 32 := Scalar.shrsi v1557 c3_i32_828
  let c8191_i32_829 : BitVec 32 := 8191#32
  let v1559 : BitVec 32 := Scalar.andi v1558 c8191_i32_829
  let v1567 : Index := Scalar.indexCast v1559
  let c0_833 : Index := 0#32
  ![v1567.toNat, 0]

def k0_chk100 (i : grid0.Coords) (v1557 : BitVec 32) : Prop :=
  (∀ (k0_h1 : k0_cond1 i = 1#1), 8 ∣ (k0_mult100 v1557).toNat) ∧
  (∀ (k0_h1 : k0_cond1 i = 1#1), ∀ a, (k0_off199 v1557) a + S8x128.size a ≤ S65536x128.size a) ∧
  (∀ (k0_h1 : k0_cond1 i = 1#1), ∀ a, (k0_off200 v1557) a + S1x128.size a ≤ S8192x128.size a)
theorem k0_mult100_dvd : ∀ (i : grid0.Coords) (v1557 : BitVec 32) (k0_hw100 : k0_chk100 i v1557), ∀ (k0_h1 : k0_cond1 i = 1#1), 8 ∣ (k0_mult100 v1557).toNat := fun i v1557 k0_hw100 k0_h1 => k0_hw100.1 k0_h1
theorem k0_off199_inb : ∀ (i : grid0.Coords) (v1557 : BitVec 32) (k0_hw100 : k0_chk100 i v1557), ∀ (k0_h1 : k0_cond1 i = 1#1), ∀ a, (k0_off199 v1557) a + S8x128.size a ≤ S65536x128.size a := fun i v1557 k0_hw100 k0_h1 => k0_hw100.2.1 k0_h1
theorem k0_off200_inb : ∀ (i : grid0.Coords) (v1557 : BitVec 32) (k0_hw100 : k0_chk100 i v1557), ∀ (k0_h1 : k0_cond1 i = 1#1), ∀ a, (k0_off200 v1557) a + S1x128.size a ≤ S8192x128.size a := fun i v1557 k0_hw100 k0_h1 => k0_hw100.2.2 k0_h1

def k0_mult101 (v1572 : BitVec 32) : BitVec 32 :=
  let c3_i32_836 : BitVec 32 := 3#32
  let v1573 : BitVec 32 := Scalar.shrsi v1572 c3_i32_836
  let c8191_i32_837 : BitVec 32 := 8191#32
  let v1574 : BitVec 32 := Scalar.andi v1573 c8191_i32_837
  let c8_i32_838 : BitVec 32 := 8#32
  let v1575 : BitVec 32 := Scalar.muli v1574 c8_i32_838
  v1575

def k0_off201 (v1572 : BitVec 32) : Fin 2 → Nat :=
  let c3_i32_836 : BitVec 32 := 3#32
  let v1573 : BitVec 32 := Scalar.shrsi v1572 c3_i32_836
  let c8191_i32_837 : BitVec 32 := 8191#32
  let v1574 : BitVec 32 := Scalar.andi v1573 c8191_i32_837
  let c8_i32_838 : BitVec 32 := 8#32
  let v1575 : BitVec 32 := Scalar.muli v1574 c8_i32_838
  let v1576 : BitVec 32 := v1575
  let v1577 : Index := Scalar.indexCast v1576
  let c0_839 : Index := 0#32
  ![v1577.toNat, 0]
def k0_off202 (v1572 : BitVec 32) : Fin 2 → Nat :=
  let c3_i32_836 : BitVec 32 := 3#32
  let v1573 : BitVec 32 := Scalar.shrsi v1572 c3_i32_836
  let c8191_i32_837 : BitVec 32 := 8191#32
  let v1574 : BitVec 32 := Scalar.andi v1573 c8191_i32_837
  let v1582 : Index := Scalar.indexCast v1574
  let c0_841 : Index := 0#32
  ![v1582.toNat, 0]

def k0_chk101 (i : grid0.Coords) (v1572 : BitVec 32) : Prop :=
  (∀ (k0_h1 : k0_cond1 i = 1#1), 8 ∣ (k0_mult101 v1572).toNat) ∧
  (∀ (k0_h1 : k0_cond1 i = 1#1), ∀ a, (k0_off201 v1572) a + S8x128.size a ≤ S65536x128.size a) ∧
  (∀ (k0_h1 : k0_cond1 i = 1#1), ∀ a, (k0_off202 v1572) a + S1x128.size a ≤ S8192x128.size a)
theorem k0_mult101_dvd : ∀ (i : grid0.Coords) (v1572 : BitVec 32) (k0_hw101 : k0_chk101 i v1572), ∀ (k0_h1 : k0_cond1 i = 1#1), 8 ∣ (k0_mult101 v1572).toNat := fun i v1572 k0_hw101 k0_h1 => k0_hw101.1 k0_h1
theorem k0_off201_inb : ∀ (i : grid0.Coords) (v1572 : BitVec 32) (k0_hw101 : k0_chk101 i v1572), ∀ (k0_h1 : k0_cond1 i = 1#1), ∀ a, (k0_off201 v1572) a + S8x128.size a ≤ S65536x128.size a := fun i v1572 k0_hw101 k0_h1 => k0_hw101.2.1 k0_h1
theorem k0_off202_inb : ∀ (i : grid0.Coords) (v1572 : BitVec 32) (k0_hw101 : k0_chk101 i v1572), ∀ (k0_h1 : k0_cond1 i = 1#1), ∀ a, (k0_off202 v1572) a + S1x128.size a ≤ S8192x128.size a := fun i v1572 k0_hw101 k0_h1 => k0_hw101.2.2 k0_h1

def k0_mult102 (v1587 : BitVec 32) : BitVec 32 :=
  let c3_i32_844 : BitVec 32 := 3#32
  let v1588 : BitVec 32 := Scalar.shrsi v1587 c3_i32_844
  let c8191_i32_845 : BitVec 32 := 8191#32
  let v1589 : BitVec 32 := Scalar.andi v1588 c8191_i32_845
  let c8_i32_846 : BitVec 32 := 8#32
  let v1590 : BitVec 32 := Scalar.muli v1589 c8_i32_846
  v1590

def k0_off203 (v1587 : BitVec 32) : Fin 2 → Nat :=
  let c3_i32_844 : BitVec 32 := 3#32
  let v1588 : BitVec 32 := Scalar.shrsi v1587 c3_i32_844
  let c8191_i32_845 : BitVec 32 := 8191#32
  let v1589 : BitVec 32 := Scalar.andi v1588 c8191_i32_845
  let c8_i32_846 : BitVec 32 := 8#32
  let v1590 : BitVec 32 := Scalar.muli v1589 c8_i32_846
  let v1591 : BitVec 32 := v1590
  let v1592 : Index := Scalar.indexCast v1591
  let c0_847 : Index := 0#32
  ![v1592.toNat, 0]
def k0_off204 (v1587 : BitVec 32) : Fin 2 → Nat :=
  let c3_i32_844 : BitVec 32 := 3#32
  let v1588 : BitVec 32 := Scalar.shrsi v1587 c3_i32_844
  let c8191_i32_845 : BitVec 32 := 8191#32
  let v1589 : BitVec 32 := Scalar.andi v1588 c8191_i32_845
  let v1597 : Index := Scalar.indexCast v1589
  let c0_849 : Index := 0#32
  ![v1597.toNat, 0]

def k0_chk102 (i : grid0.Coords) (v1587 : BitVec 32) : Prop :=
  (∀ (k0_h1 : k0_cond1 i = 1#1), 8 ∣ (k0_mult102 v1587).toNat) ∧
  (∀ (k0_h1 : k0_cond1 i = 1#1), ∀ a, (k0_off203 v1587) a + S8x128.size a ≤ S65536x128.size a) ∧
  (∀ (k0_h1 : k0_cond1 i = 1#1), ∀ a, (k0_off204 v1587) a + S1x128.size a ≤ S8192x128.size a)
theorem k0_mult102_dvd : ∀ (i : grid0.Coords) (v1587 : BitVec 32) (k0_hw102 : k0_chk102 i v1587), ∀ (k0_h1 : k0_cond1 i = 1#1), 8 ∣ (k0_mult102 v1587).toNat := fun i v1587 k0_hw102 k0_h1 => k0_hw102.1 k0_h1
theorem k0_off203_inb : ∀ (i : grid0.Coords) (v1587 : BitVec 32) (k0_hw102 : k0_chk102 i v1587), ∀ (k0_h1 : k0_cond1 i = 1#1), ∀ a, (k0_off203 v1587) a + S8x128.size a ≤ S65536x128.size a := fun i v1587 k0_hw102 k0_h1 => k0_hw102.2.1 k0_h1
theorem k0_off204_inb : ∀ (i : grid0.Coords) (v1587 : BitVec 32) (k0_hw102 : k0_chk102 i v1587), ∀ (k0_h1 : k0_cond1 i = 1#1), ∀ a, (k0_off204 v1587) a + S1x128.size a ≤ S8192x128.size a := fun i v1587 k0_hw102 k0_h1 => k0_hw102.2.2 k0_h1

def k0_mult103 (v1602 : BitVec 32) : BitVec 32 :=
  let c3_i32_852 : BitVec 32 := 3#32
  let v1603 : BitVec 32 := Scalar.shrsi v1602 c3_i32_852
  let c8191_i32_853 : BitVec 32 := 8191#32
  let v1604 : BitVec 32 := Scalar.andi v1603 c8191_i32_853
  let c8_i32_854 : BitVec 32 := 8#32
  let v1605 : BitVec 32 := Scalar.muli v1604 c8_i32_854
  v1605

def k0_off205 (v1602 : BitVec 32) : Fin 2 → Nat :=
  let c3_i32_852 : BitVec 32 := 3#32
  let v1603 : BitVec 32 := Scalar.shrsi v1602 c3_i32_852
  let c8191_i32_853 : BitVec 32 := 8191#32
  let v1604 : BitVec 32 := Scalar.andi v1603 c8191_i32_853
  let c8_i32_854 : BitVec 32 := 8#32
  let v1605 : BitVec 32 := Scalar.muli v1604 c8_i32_854
  let v1606 : BitVec 32 := v1605
  let v1607 : Index := Scalar.indexCast v1606
  let c0_855 : Index := 0#32
  ![v1607.toNat, 0]
def k0_off206 (v1602 : BitVec 32) : Fin 2 → Nat :=
  let c3_i32_852 : BitVec 32 := 3#32
  let v1603 : BitVec 32 := Scalar.shrsi v1602 c3_i32_852
  let c8191_i32_853 : BitVec 32 := 8191#32
  let v1604 : BitVec 32 := Scalar.andi v1603 c8191_i32_853
  let v1612 : Index := Scalar.indexCast v1604
  let c0_857 : Index := 0#32
  ![v1612.toNat, 0]

def k0_chk103 (i : grid0.Coords) (v1602 : BitVec 32) : Prop :=
  (∀ (k0_h1 : k0_cond1 i = 1#1), 8 ∣ (k0_mult103 v1602).toNat) ∧
  (∀ (k0_h1 : k0_cond1 i = 1#1), ∀ a, (k0_off205 v1602) a + S8x128.size a ≤ S65536x128.size a) ∧
  (∀ (k0_h1 : k0_cond1 i = 1#1), ∀ a, (k0_off206 v1602) a + S1x128.size a ≤ S8192x128.size a)
theorem k0_mult103_dvd : ∀ (i : grid0.Coords) (v1602 : BitVec 32) (k0_hw103 : k0_chk103 i v1602), ∀ (k0_h1 : k0_cond1 i = 1#1), 8 ∣ (k0_mult103 v1602).toNat := fun i v1602 k0_hw103 k0_h1 => k0_hw103.1 k0_h1
theorem k0_off205_inb : ∀ (i : grid0.Coords) (v1602 : BitVec 32) (k0_hw103 : k0_chk103 i v1602), ∀ (k0_h1 : k0_cond1 i = 1#1), ∀ a, (k0_off205 v1602) a + S8x128.size a ≤ S65536x128.size a := fun i v1602 k0_hw103 k0_h1 => k0_hw103.2.1 k0_h1
theorem k0_off206_inb : ∀ (i : grid0.Coords) (v1602 : BitVec 32) (k0_hw103 : k0_chk103 i v1602), ∀ (k0_h1 : k0_cond1 i = 1#1), ∀ a, (k0_off206 v1602) a + S1x128.size a ≤ S8192x128.size a := fun i v1602 k0_hw103 k0_h1 => k0_hw103.2.2 k0_h1

def k0_mult104 (v1617 : BitVec 32) : BitVec 32 :=
  let c3_i32_860 : BitVec 32 := 3#32
  let v1618 : BitVec 32 := Scalar.shrsi v1617 c3_i32_860
  let c8191_i32_861 : BitVec 32 := 8191#32
  let v1619 : BitVec 32 := Scalar.andi v1618 c8191_i32_861
  let c8_i32_862 : BitVec 32 := 8#32
  let v1620 : BitVec 32 := Scalar.muli v1619 c8_i32_862
  v1620

def k0_off207 (v1617 : BitVec 32) : Fin 2 → Nat :=
  let c3_i32_860 : BitVec 32 := 3#32
  let v1618 : BitVec 32 := Scalar.shrsi v1617 c3_i32_860
  let c8191_i32_861 : BitVec 32 := 8191#32
  let v1619 : BitVec 32 := Scalar.andi v1618 c8191_i32_861
  let c8_i32_862 : BitVec 32 := 8#32
  let v1620 : BitVec 32 := Scalar.muli v1619 c8_i32_862
  let v1621 : BitVec 32 := v1620
  let v1622 : Index := Scalar.indexCast v1621
  let c0_863 : Index := 0#32
  ![v1622.toNat, 0]
def k0_off208 (v1617 : BitVec 32) : Fin 2 → Nat :=
  let c3_i32_860 : BitVec 32 := 3#32
  let v1618 : BitVec 32 := Scalar.shrsi v1617 c3_i32_860
  let c8191_i32_861 : BitVec 32 := 8191#32
  let v1619 : BitVec 32 := Scalar.andi v1618 c8191_i32_861
  let v1627 : Index := Scalar.indexCast v1619
  let c0_865 : Index := 0#32
  ![v1627.toNat, 0]

def k0_chk104 (i : grid0.Coords) (v1617 : BitVec 32) : Prop :=
  (∀ (k0_h1 : k0_cond1 i = 1#1), 8 ∣ (k0_mult104 v1617).toNat) ∧
  (∀ (k0_h1 : k0_cond1 i = 1#1), ∀ a, (k0_off207 v1617) a + S8x128.size a ≤ S65536x128.size a) ∧
  (∀ (k0_h1 : k0_cond1 i = 1#1), ∀ a, (k0_off208 v1617) a + S1x128.size a ≤ S8192x128.size a)
theorem k0_mult104_dvd : ∀ (i : grid0.Coords) (v1617 : BitVec 32) (k0_hw104 : k0_chk104 i v1617), ∀ (k0_h1 : k0_cond1 i = 1#1), 8 ∣ (k0_mult104 v1617).toNat := fun i v1617 k0_hw104 k0_h1 => k0_hw104.1 k0_h1
theorem k0_off207_inb : ∀ (i : grid0.Coords) (v1617 : BitVec 32) (k0_hw104 : k0_chk104 i v1617), ∀ (k0_h1 : k0_cond1 i = 1#1), ∀ a, (k0_off207 v1617) a + S8x128.size a ≤ S65536x128.size a := fun i v1617 k0_hw104 k0_h1 => k0_hw104.2.1 k0_h1
theorem k0_off208_inb : ∀ (i : grid0.Coords) (v1617 : BitVec 32) (k0_hw104 : k0_chk104 i v1617), ∀ (k0_h1 : k0_cond1 i = 1#1), ∀ a, (k0_off208 v1617) a + S1x128.size a ≤ S8192x128.size a := fun i v1617 k0_hw104 k0_h1 => k0_hw104.2.2 k0_h1

def k0_mult105 (v1632 : BitVec 32) : BitVec 32 :=
  let c3_i32_869 : BitVec 32 := 3#32
  let v1633 : BitVec 32 := Scalar.shrsi v1632 c3_i32_869
  let c8191_i32_870 : BitVec 32 := 8191#32
  let v1634 : BitVec 32 := Scalar.andi v1633 c8191_i32_870
  let c8_i32_871 : BitVec 32 := 8#32
  let v1635 : BitVec 32 := Scalar.muli v1634 c8_i32_871
  v1635

def k0_off209 (v1632 : BitVec 32) : Fin 2 → Nat :=
  let c3_i32_869 : BitVec 32 := 3#32
  let v1633 : BitVec 32 := Scalar.shrsi v1632 c3_i32_869
  let c8191_i32_870 : BitVec 32 := 8191#32
  let v1634 : BitVec 32 := Scalar.andi v1633 c8191_i32_870
  let c8_i32_871 : BitVec 32 := 8#32
  let v1635 : BitVec 32 := Scalar.muli v1634 c8_i32_871
  let v1636 : BitVec 32 := v1635
  let v1637 : Index := Scalar.indexCast v1636
  let c0_872 : Index := 0#32
  ![v1637.toNat, 0]
def k0_off210 (v1632 : BitVec 32) : Fin 2 → Nat :=
  let c3_i32_869 : BitVec 32 := 3#32
  let v1633 : BitVec 32 := Scalar.shrsi v1632 c3_i32_869
  let c8191_i32_870 : BitVec 32 := 8191#32
  let v1634 : BitVec 32 := Scalar.andi v1633 c8191_i32_870
  let v1642 : Index := Scalar.indexCast v1634
  let c0_874 : Index := 0#32
  ![v1642.toNat, 0]

def k0_chk105 (i : grid0.Coords) (v1632 : BitVec 32) : Prop :=
  (∀ (k0_h1 : k0_cond1 i = 1#1), 8 ∣ (k0_mult105 v1632).toNat) ∧
  (∀ (k0_h1 : k0_cond1 i = 1#1), ∀ a, (k0_off209 v1632) a + S8x128.size a ≤ S65536x128.size a) ∧
  (∀ (k0_h1 : k0_cond1 i = 1#1), ∀ a, (k0_off210 v1632) a + S1x128.size a ≤ S8192x128.size a)
theorem k0_mult105_dvd : ∀ (i : grid0.Coords) (v1632 : BitVec 32) (k0_hw105 : k0_chk105 i v1632), ∀ (k0_h1 : k0_cond1 i = 1#1), 8 ∣ (k0_mult105 v1632).toNat := fun i v1632 k0_hw105 k0_h1 => k0_hw105.1 k0_h1
theorem k0_off209_inb : ∀ (i : grid0.Coords) (v1632 : BitVec 32) (k0_hw105 : k0_chk105 i v1632), ∀ (k0_h1 : k0_cond1 i = 1#1), ∀ a, (k0_off209 v1632) a + S8x128.size a ≤ S65536x128.size a := fun i v1632 k0_hw105 k0_h1 => k0_hw105.2.1 k0_h1
theorem k0_off210_inb : ∀ (i : grid0.Coords) (v1632 : BitVec 32) (k0_hw105 : k0_chk105 i v1632), ∀ (k0_h1 : k0_cond1 i = 1#1), ∀ a, (k0_off210 v1632) a + S1x128.size a ≤ S8192x128.size a := fun i v1632 k0_hw105 k0_h1 => k0_hw105.2.2 k0_h1

def k0_mult106 (v1647 : BitVec 32) : BitVec 32 :=
  let c3_i32_877 : BitVec 32 := 3#32
  let v1648 : BitVec 32 := Scalar.shrsi v1647 c3_i32_877
  let c8191_i32_878 : BitVec 32 := 8191#32
  let v1649 : BitVec 32 := Scalar.andi v1648 c8191_i32_878
  let c8_i32_879 : BitVec 32 := 8#32
  let v1650 : BitVec 32 := Scalar.muli v1649 c8_i32_879
  v1650

def k0_off211 (v1647 : BitVec 32) : Fin 2 → Nat :=
  let c3_i32_877 : BitVec 32 := 3#32
  let v1648 : BitVec 32 := Scalar.shrsi v1647 c3_i32_877
  let c8191_i32_878 : BitVec 32 := 8191#32
  let v1649 : BitVec 32 := Scalar.andi v1648 c8191_i32_878
  let c8_i32_879 : BitVec 32 := 8#32
  let v1650 : BitVec 32 := Scalar.muli v1649 c8_i32_879
  let v1651 : BitVec 32 := v1650
  let v1652 : Index := Scalar.indexCast v1651
  let c0_880 : Index := 0#32
  ![v1652.toNat, 0]
def k0_off212 (v1647 : BitVec 32) : Fin 2 → Nat :=
  let c3_i32_877 : BitVec 32 := 3#32
  let v1648 : BitVec 32 := Scalar.shrsi v1647 c3_i32_877
  let c8191_i32_878 : BitVec 32 := 8191#32
  let v1649 : BitVec 32 := Scalar.andi v1648 c8191_i32_878
  let v1657 : Index := Scalar.indexCast v1649
  let c0_882 : Index := 0#32
  ![v1657.toNat, 0]

def k0_chk106 (i : grid0.Coords) (v1647 : BitVec 32) : Prop :=
  (∀ (k0_h1 : k0_cond1 i = 1#1), 8 ∣ (k0_mult106 v1647).toNat) ∧
  (∀ (k0_h1 : k0_cond1 i = 1#1), ∀ a, (k0_off211 v1647) a + S8x128.size a ≤ S65536x128.size a) ∧
  (∀ (k0_h1 : k0_cond1 i = 1#1), ∀ a, (k0_off212 v1647) a + S1x128.size a ≤ S8192x128.size a)
theorem k0_mult106_dvd : ∀ (i : grid0.Coords) (v1647 : BitVec 32) (k0_hw106 : k0_chk106 i v1647), ∀ (k0_h1 : k0_cond1 i = 1#1), 8 ∣ (k0_mult106 v1647).toNat := fun i v1647 k0_hw106 k0_h1 => k0_hw106.1 k0_h1
theorem k0_off211_inb : ∀ (i : grid0.Coords) (v1647 : BitVec 32) (k0_hw106 : k0_chk106 i v1647), ∀ (k0_h1 : k0_cond1 i = 1#1), ∀ a, (k0_off211 v1647) a + S8x128.size a ≤ S65536x128.size a := fun i v1647 k0_hw106 k0_h1 => k0_hw106.2.1 k0_h1
theorem k0_off212_inb : ∀ (i : grid0.Coords) (v1647 : BitVec 32) (k0_hw106 : k0_chk106 i v1647), ∀ (k0_h1 : k0_cond1 i = 1#1), ∀ a, (k0_off212 v1647) a + S1x128.size a ≤ S8192x128.size a := fun i v1647 k0_hw106 k0_h1 => k0_hw106.2.2 k0_h1

def k0_mult107 (v1662 : BitVec 32) : BitVec 32 :=
  let c3_i32_885 : BitVec 32 := 3#32
  let v1663 : BitVec 32 := Scalar.shrsi v1662 c3_i32_885
  let c8191_i32_886 : BitVec 32 := 8191#32
  let v1664 : BitVec 32 := Scalar.andi v1663 c8191_i32_886
  let c8_i32_887 : BitVec 32 := 8#32
  let v1665 : BitVec 32 := Scalar.muli v1664 c8_i32_887
  v1665

def k0_off213 (v1662 : BitVec 32) : Fin 2 → Nat :=
  let c3_i32_885 : BitVec 32 := 3#32
  let v1663 : BitVec 32 := Scalar.shrsi v1662 c3_i32_885
  let c8191_i32_886 : BitVec 32 := 8191#32
  let v1664 : BitVec 32 := Scalar.andi v1663 c8191_i32_886
  let c8_i32_887 : BitVec 32 := 8#32
  let v1665 : BitVec 32 := Scalar.muli v1664 c8_i32_887
  let v1666 : BitVec 32 := v1665
  let v1667 : Index := Scalar.indexCast v1666
  let c0_888 : Index := 0#32
  ![v1667.toNat, 0]
def k0_off214 (v1662 : BitVec 32) : Fin 2 → Nat :=
  let c3_i32_885 : BitVec 32 := 3#32
  let v1663 : BitVec 32 := Scalar.shrsi v1662 c3_i32_885
  let c8191_i32_886 : BitVec 32 := 8191#32
  let v1664 : BitVec 32 := Scalar.andi v1663 c8191_i32_886
  let v1672 : Index := Scalar.indexCast v1664
  let c0_890 : Index := 0#32
  ![v1672.toNat, 0]

def k0_chk107 (i : grid0.Coords) (v1662 : BitVec 32) : Prop :=
  (∀ (k0_h1 : k0_cond1 i = 1#1), 8 ∣ (k0_mult107 v1662).toNat) ∧
  (∀ (k0_h1 : k0_cond1 i = 1#1), ∀ a, (k0_off213 v1662) a + S8x128.size a ≤ S65536x128.size a) ∧
  (∀ (k0_h1 : k0_cond1 i = 1#1), ∀ a, (k0_off214 v1662) a + S1x128.size a ≤ S8192x128.size a)
theorem k0_mult107_dvd : ∀ (i : grid0.Coords) (v1662 : BitVec 32) (k0_hw107 : k0_chk107 i v1662), ∀ (k0_h1 : k0_cond1 i = 1#1), 8 ∣ (k0_mult107 v1662).toNat := fun i v1662 k0_hw107 k0_h1 => k0_hw107.1 k0_h1
theorem k0_off213_inb : ∀ (i : grid0.Coords) (v1662 : BitVec 32) (k0_hw107 : k0_chk107 i v1662), ∀ (k0_h1 : k0_cond1 i = 1#1), ∀ a, (k0_off213 v1662) a + S8x128.size a ≤ S65536x128.size a := fun i v1662 k0_hw107 k0_h1 => k0_hw107.2.1 k0_h1
theorem k0_off214_inb : ∀ (i : grid0.Coords) (v1662 : BitVec 32) (k0_hw107 : k0_chk107 i v1662), ∀ (k0_h1 : k0_cond1 i = 1#1), ∀ a, (k0_off214 v1662) a + S1x128.size a ≤ S8192x128.size a := fun i v1662 k0_hw107 k0_h1 => k0_hw107.2.2 k0_h1

def k0_mult108 (v1677 : BitVec 32) : BitVec 32 :=
  let c3_i32_893 : BitVec 32 := 3#32
  let v1678 : BitVec 32 := Scalar.shrsi v1677 c3_i32_893
  let c8191_i32_894 : BitVec 32 := 8191#32
  let v1679 : BitVec 32 := Scalar.andi v1678 c8191_i32_894
  let c8_i32_895 : BitVec 32 := 8#32
  let v1680 : BitVec 32 := Scalar.muli v1679 c8_i32_895
  v1680

def k0_off215 (v1677 : BitVec 32) : Fin 2 → Nat :=
  let c3_i32_893 : BitVec 32 := 3#32
  let v1678 : BitVec 32 := Scalar.shrsi v1677 c3_i32_893
  let c8191_i32_894 : BitVec 32 := 8191#32
  let v1679 : BitVec 32 := Scalar.andi v1678 c8191_i32_894
  let c8_i32_895 : BitVec 32 := 8#32
  let v1680 : BitVec 32 := Scalar.muli v1679 c8_i32_895
  let v1681 : BitVec 32 := v1680
  let v1682 : Index := Scalar.indexCast v1681
  let c0_896 : Index := 0#32
  ![v1682.toNat, 0]
def k0_off216 (v1677 : BitVec 32) : Fin 2 → Nat :=
  let c3_i32_893 : BitVec 32 := 3#32
  let v1678 : BitVec 32 := Scalar.shrsi v1677 c3_i32_893
  let c8191_i32_894 : BitVec 32 := 8191#32
  let v1679 : BitVec 32 := Scalar.andi v1678 c8191_i32_894
  let v1687 : Index := Scalar.indexCast v1679
  let c0_898 : Index := 0#32
  ![v1687.toNat, 0]

def k0_chk108 (i : grid0.Coords) (v1677 : BitVec 32) : Prop :=
  (∀ (k0_h1 : k0_cond1 i = 1#1), 8 ∣ (k0_mult108 v1677).toNat) ∧
  (∀ (k0_h1 : k0_cond1 i = 1#1), ∀ a, (k0_off215 v1677) a + S8x128.size a ≤ S65536x128.size a) ∧
  (∀ (k0_h1 : k0_cond1 i = 1#1), ∀ a, (k0_off216 v1677) a + S1x128.size a ≤ S8192x128.size a)
theorem k0_mult108_dvd : ∀ (i : grid0.Coords) (v1677 : BitVec 32) (k0_hw108 : k0_chk108 i v1677), ∀ (k0_h1 : k0_cond1 i = 1#1), 8 ∣ (k0_mult108 v1677).toNat := fun i v1677 k0_hw108 k0_h1 => k0_hw108.1 k0_h1
theorem k0_off215_inb : ∀ (i : grid0.Coords) (v1677 : BitVec 32) (k0_hw108 : k0_chk108 i v1677), ∀ (k0_h1 : k0_cond1 i = 1#1), ∀ a, (k0_off215 v1677) a + S8x128.size a ≤ S65536x128.size a := fun i v1677 k0_hw108 k0_h1 => k0_hw108.2.1 k0_h1
theorem k0_off216_inb : ∀ (i : grid0.Coords) (v1677 : BitVec 32) (k0_hw108 : k0_chk108 i v1677), ∀ (k0_h1 : k0_cond1 i = 1#1), ∀ a, (k0_off216 v1677) a + S1x128.size a ≤ S8192x128.size a := fun i v1677 k0_hw108 k0_h1 => k0_hw108.2.2 k0_h1

def k0_mult109 (v1692 : BitVec 32) : BitVec 32 :=
  let c3_i32_901 : BitVec 32 := 3#32
  let v1693 : BitVec 32 := Scalar.shrsi v1692 c3_i32_901
  let c8191_i32_902 : BitVec 32 := 8191#32
  let v1694 : BitVec 32 := Scalar.andi v1693 c8191_i32_902
  let c8_i32_903 : BitVec 32 := 8#32
  let v1695 : BitVec 32 := Scalar.muli v1694 c8_i32_903
  v1695

def k0_off217 (v1692 : BitVec 32) : Fin 2 → Nat :=
  let c3_i32_901 : BitVec 32 := 3#32
  let v1693 : BitVec 32 := Scalar.shrsi v1692 c3_i32_901
  let c8191_i32_902 : BitVec 32 := 8191#32
  let v1694 : BitVec 32 := Scalar.andi v1693 c8191_i32_902
  let c8_i32_903 : BitVec 32 := 8#32
  let v1695 : BitVec 32 := Scalar.muli v1694 c8_i32_903
  let v1696 : BitVec 32 := v1695
  let v1697 : Index := Scalar.indexCast v1696
  let c0_904 : Index := 0#32
  ![v1697.toNat, 0]
def k0_off218 (v1692 : BitVec 32) : Fin 2 → Nat :=
  let c3_i32_901 : BitVec 32 := 3#32
  let v1693 : BitVec 32 := Scalar.shrsi v1692 c3_i32_901
  let c8191_i32_902 : BitVec 32 := 8191#32
  let v1694 : BitVec 32 := Scalar.andi v1693 c8191_i32_902
  let v1702 : Index := Scalar.indexCast v1694
  let c0_906 : Index := 0#32
  ![v1702.toNat, 0]

def k0_chk109 (i : grid0.Coords) (v1692 : BitVec 32) : Prop :=
  (∀ (k0_h1 : k0_cond1 i = 1#1), 8 ∣ (k0_mult109 v1692).toNat) ∧
  (∀ (k0_h1 : k0_cond1 i = 1#1), ∀ a, (k0_off217 v1692) a + S8x128.size a ≤ S65536x128.size a) ∧
  (∀ (k0_h1 : k0_cond1 i = 1#1), ∀ a, (k0_off218 v1692) a + S1x128.size a ≤ S8192x128.size a)
theorem k0_mult109_dvd : ∀ (i : grid0.Coords) (v1692 : BitVec 32) (k0_hw109 : k0_chk109 i v1692), ∀ (k0_h1 : k0_cond1 i = 1#1), 8 ∣ (k0_mult109 v1692).toNat := fun i v1692 k0_hw109 k0_h1 => k0_hw109.1 k0_h1
theorem k0_off217_inb : ∀ (i : grid0.Coords) (v1692 : BitVec 32) (k0_hw109 : k0_chk109 i v1692), ∀ (k0_h1 : k0_cond1 i = 1#1), ∀ a, (k0_off217 v1692) a + S8x128.size a ≤ S65536x128.size a := fun i v1692 k0_hw109 k0_h1 => k0_hw109.2.1 k0_h1
theorem k0_off218_inb : ∀ (i : grid0.Coords) (v1692 : BitVec 32) (k0_hw109 : k0_chk109 i v1692), ∀ (k0_h1 : k0_cond1 i = 1#1), ∀ a, (k0_off218 v1692) a + S1x128.size a ≤ S8192x128.size a := fun i v1692 k0_hw109 k0_h1 => k0_hw109.2.2 k0_h1

def k0_mult110 (v1707 : BitVec 32) : BitVec 32 :=
  let c3_i32_909 : BitVec 32 := 3#32
  let v1708 : BitVec 32 := Scalar.shrsi v1707 c3_i32_909
  let c8191_i32_910 : BitVec 32 := 8191#32
  let v1709 : BitVec 32 := Scalar.andi v1708 c8191_i32_910
  let c8_i32_911 : BitVec 32 := 8#32
  let v1710 : BitVec 32 := Scalar.muli v1709 c8_i32_911
  v1710

def k0_off219 (v1707 : BitVec 32) : Fin 2 → Nat :=
  let c3_i32_909 : BitVec 32 := 3#32
  let v1708 : BitVec 32 := Scalar.shrsi v1707 c3_i32_909
  let c8191_i32_910 : BitVec 32 := 8191#32
  let v1709 : BitVec 32 := Scalar.andi v1708 c8191_i32_910
  let c8_i32_911 : BitVec 32 := 8#32
  let v1710 : BitVec 32 := Scalar.muli v1709 c8_i32_911
  let v1711 : BitVec 32 := v1710
  let v1712 : Index := Scalar.indexCast v1711
  let c0_912 : Index := 0#32
  ![v1712.toNat, 0]
def k0_off220 (v1707 : BitVec 32) : Fin 2 → Nat :=
  let c3_i32_909 : BitVec 32 := 3#32
  let v1708 : BitVec 32 := Scalar.shrsi v1707 c3_i32_909
  let c8191_i32_910 : BitVec 32 := 8191#32
  let v1709 : BitVec 32 := Scalar.andi v1708 c8191_i32_910
  let v1717 : Index := Scalar.indexCast v1709
  let c0_914 : Index := 0#32
  ![v1717.toNat, 0]

def k0_chk110 (i : grid0.Coords) (v1707 : BitVec 32) : Prop :=
  (∀ (k0_h1 : k0_cond1 i = 1#1), 8 ∣ (k0_mult110 v1707).toNat) ∧
  (∀ (k0_h1 : k0_cond1 i = 1#1), ∀ a, (k0_off219 v1707) a + S8x128.size a ≤ S65536x128.size a) ∧
  (∀ (k0_h1 : k0_cond1 i = 1#1), ∀ a, (k0_off220 v1707) a + S1x128.size a ≤ S8192x128.size a)
theorem k0_mult110_dvd : ∀ (i : grid0.Coords) (v1707 : BitVec 32) (k0_hw110 : k0_chk110 i v1707), ∀ (k0_h1 : k0_cond1 i = 1#1), 8 ∣ (k0_mult110 v1707).toNat := fun i v1707 k0_hw110 k0_h1 => k0_hw110.1 k0_h1
theorem k0_off219_inb : ∀ (i : grid0.Coords) (v1707 : BitVec 32) (k0_hw110 : k0_chk110 i v1707), ∀ (k0_h1 : k0_cond1 i = 1#1), ∀ a, (k0_off219 v1707) a + S8x128.size a ≤ S65536x128.size a := fun i v1707 k0_hw110 k0_h1 => k0_hw110.2.1 k0_h1
theorem k0_off220_inb : ∀ (i : grid0.Coords) (v1707 : BitVec 32) (k0_hw110 : k0_chk110 i v1707), ∀ (k0_h1 : k0_cond1 i = 1#1), ∀ a, (k0_off220 v1707) a + S1x128.size a ≤ S8192x128.size a := fun i v1707 k0_hw110 k0_h1 => k0_hw110.2.2 k0_h1

def k0_mult111 (v1722 : BitVec 32) : BitVec 32 :=
  let c3_i32_917 : BitVec 32 := 3#32
  let v1723 : BitVec 32 := Scalar.shrsi v1722 c3_i32_917
  let c8191_i32_918 : BitVec 32 := 8191#32
  let v1724 : BitVec 32 := Scalar.andi v1723 c8191_i32_918
  let c8_i32_919 : BitVec 32 := 8#32
  let v1725 : BitVec 32 := Scalar.muli v1724 c8_i32_919
  v1725

def k0_off221 (v1722 : BitVec 32) : Fin 2 → Nat :=
  let c3_i32_917 : BitVec 32 := 3#32
  let v1723 : BitVec 32 := Scalar.shrsi v1722 c3_i32_917
  let c8191_i32_918 : BitVec 32 := 8191#32
  let v1724 : BitVec 32 := Scalar.andi v1723 c8191_i32_918
  let c8_i32_919 : BitVec 32 := 8#32
  let v1725 : BitVec 32 := Scalar.muli v1724 c8_i32_919
  let v1726 : BitVec 32 := v1725
  let v1727 : Index := Scalar.indexCast v1726
  let c0_920 : Index := 0#32
  ![v1727.toNat, 0]
def k0_off222 (v1722 : BitVec 32) : Fin 2 → Nat :=
  let c3_i32_917 : BitVec 32 := 3#32
  let v1723 : BitVec 32 := Scalar.shrsi v1722 c3_i32_917
  let c8191_i32_918 : BitVec 32 := 8191#32
  let v1724 : BitVec 32 := Scalar.andi v1723 c8191_i32_918
  let v1732 : Index := Scalar.indexCast v1724
  let c0_922 : Index := 0#32
  ![v1732.toNat, 0]

def k0_chk111 (i : grid0.Coords) (v1722 : BitVec 32) : Prop :=
  (∀ (k0_h1 : k0_cond1 i = 1#1), 8 ∣ (k0_mult111 v1722).toNat) ∧
  (∀ (k0_h1 : k0_cond1 i = 1#1), ∀ a, (k0_off221 v1722) a + S8x128.size a ≤ S65536x128.size a) ∧
  (∀ (k0_h1 : k0_cond1 i = 1#1), ∀ a, (k0_off222 v1722) a + S1x128.size a ≤ S8192x128.size a)
theorem k0_mult111_dvd : ∀ (i : grid0.Coords) (v1722 : BitVec 32) (k0_hw111 : k0_chk111 i v1722), ∀ (k0_h1 : k0_cond1 i = 1#1), 8 ∣ (k0_mult111 v1722).toNat := fun i v1722 k0_hw111 k0_h1 => k0_hw111.1 k0_h1
theorem k0_off221_inb : ∀ (i : grid0.Coords) (v1722 : BitVec 32) (k0_hw111 : k0_chk111 i v1722), ∀ (k0_h1 : k0_cond1 i = 1#1), ∀ a, (k0_off221 v1722) a + S8x128.size a ≤ S65536x128.size a := fun i v1722 k0_hw111 k0_h1 => k0_hw111.2.1 k0_h1
theorem k0_off222_inb : ∀ (i : grid0.Coords) (v1722 : BitVec 32) (k0_hw111 : k0_chk111 i v1722), ∀ (k0_h1 : k0_cond1 i = 1#1), ∀ a, (k0_off222 v1722) a + S1x128.size a ≤ S8192x128.size a := fun i v1722 k0_hw111 k0_h1 => k0_hw111.2.2 k0_h1

def k0_mult112 (v1737 : BitVec 32) : BitVec 32 :=
  let c3_i32_925 : BitVec 32 := 3#32
  let v1738 : BitVec 32 := Scalar.shrsi v1737 c3_i32_925
  let c8191_i32_926 : BitVec 32 := 8191#32
  let v1739 : BitVec 32 := Scalar.andi v1738 c8191_i32_926
  let c8_i32_927 : BitVec 32 := 8#32
  let v1740 : BitVec 32 := Scalar.muli v1739 c8_i32_927
  v1740

def k0_off223 (v1737 : BitVec 32) : Fin 2 → Nat :=
  let c3_i32_925 : BitVec 32 := 3#32
  let v1738 : BitVec 32 := Scalar.shrsi v1737 c3_i32_925
  let c8191_i32_926 : BitVec 32 := 8191#32
  let v1739 : BitVec 32 := Scalar.andi v1738 c8191_i32_926
  let c8_i32_927 : BitVec 32 := 8#32
  let v1740 : BitVec 32 := Scalar.muli v1739 c8_i32_927
  let v1741 : BitVec 32 := v1740
  let v1742 : Index := Scalar.indexCast v1741
  let c0_928 : Index := 0#32
  ![v1742.toNat, 0]
def k0_off224 (v1737 : BitVec 32) : Fin 2 → Nat :=
  let c3_i32_925 : BitVec 32 := 3#32
  let v1738 : BitVec 32 := Scalar.shrsi v1737 c3_i32_925
  let c8191_i32_926 : BitVec 32 := 8191#32
  let v1739 : BitVec 32 := Scalar.andi v1738 c8191_i32_926
  let v1747 : Index := Scalar.indexCast v1739
  let c0_930 : Index := 0#32
  ![v1747.toNat, 0]

def k0_chk112 (i : grid0.Coords) (v1737 : BitVec 32) : Prop :=
  (∀ (k0_h1 : k0_cond1 i = 1#1), 8 ∣ (k0_mult112 v1737).toNat) ∧
  (∀ (k0_h1 : k0_cond1 i = 1#1), ∀ a, (k0_off223 v1737) a + S8x128.size a ≤ S65536x128.size a) ∧
  (∀ (k0_h1 : k0_cond1 i = 1#1), ∀ a, (k0_off224 v1737) a + S1x128.size a ≤ S8192x128.size a)
theorem k0_mult112_dvd : ∀ (i : grid0.Coords) (v1737 : BitVec 32) (k0_hw112 : k0_chk112 i v1737), ∀ (k0_h1 : k0_cond1 i = 1#1), 8 ∣ (k0_mult112 v1737).toNat := fun i v1737 k0_hw112 k0_h1 => k0_hw112.1 k0_h1
theorem k0_off223_inb : ∀ (i : grid0.Coords) (v1737 : BitVec 32) (k0_hw112 : k0_chk112 i v1737), ∀ (k0_h1 : k0_cond1 i = 1#1), ∀ a, (k0_off223 v1737) a + S8x128.size a ≤ S65536x128.size a := fun i v1737 k0_hw112 k0_h1 => k0_hw112.2.1 k0_h1
theorem k0_off224_inb : ∀ (i : grid0.Coords) (v1737 : BitVec 32) (k0_hw112 : k0_chk112 i v1737), ∀ (k0_h1 : k0_cond1 i = 1#1), ∀ a, (k0_off224 v1737) a + S1x128.size a ≤ S8192x128.size a := fun i v1737 k0_hw112 k0_h1 => k0_hw112.2.2 k0_h1

def k0_mult113 (v1752 : BitVec 32) : BitVec 32 :=
  let c3_i32_934 : BitVec 32 := 3#32
  let v1753 : BitVec 32 := Scalar.shrsi v1752 c3_i32_934
  let c8191_i32_935 : BitVec 32 := 8191#32
  let v1754 : BitVec 32 := Scalar.andi v1753 c8191_i32_935
  let c8_i32_936 : BitVec 32 := 8#32
  let v1755 : BitVec 32 := Scalar.muli v1754 c8_i32_936
  v1755

def k0_off225 (v1752 : BitVec 32) : Fin 2 → Nat :=
  let c3_i32_934 : BitVec 32 := 3#32
  let v1753 : BitVec 32 := Scalar.shrsi v1752 c3_i32_934
  let c8191_i32_935 : BitVec 32 := 8191#32
  let v1754 : BitVec 32 := Scalar.andi v1753 c8191_i32_935
  let c8_i32_936 : BitVec 32 := 8#32
  let v1755 : BitVec 32 := Scalar.muli v1754 c8_i32_936
  let v1756 : BitVec 32 := v1755
  let v1757 : Index := Scalar.indexCast v1756
  let c0_937 : Index := 0#32
  ![v1757.toNat, 0]
def k0_off226 (v1752 : BitVec 32) : Fin 2 → Nat :=
  let c3_i32_934 : BitVec 32 := 3#32
  let v1753 : BitVec 32 := Scalar.shrsi v1752 c3_i32_934
  let c8191_i32_935 : BitVec 32 := 8191#32
  let v1754 : BitVec 32 := Scalar.andi v1753 c8191_i32_935
  let v1762 : Index := Scalar.indexCast v1754
  let c0_939 : Index := 0#32
  ![v1762.toNat, 0]

def k0_chk113 (i : grid0.Coords) (v1752 : BitVec 32) : Prop :=
  (∀ (k0_h1 : k0_cond1 i = 1#1), 8 ∣ (k0_mult113 v1752).toNat) ∧
  (∀ (k0_h1 : k0_cond1 i = 1#1), ∀ a, (k0_off225 v1752) a + S8x128.size a ≤ S65536x128.size a) ∧
  (∀ (k0_h1 : k0_cond1 i = 1#1), ∀ a, (k0_off226 v1752) a + S1x128.size a ≤ S8192x128.size a)
theorem k0_mult113_dvd : ∀ (i : grid0.Coords) (v1752 : BitVec 32) (k0_hw113 : k0_chk113 i v1752), ∀ (k0_h1 : k0_cond1 i = 1#1), 8 ∣ (k0_mult113 v1752).toNat := fun i v1752 k0_hw113 k0_h1 => k0_hw113.1 k0_h1
theorem k0_off225_inb : ∀ (i : grid0.Coords) (v1752 : BitVec 32) (k0_hw113 : k0_chk113 i v1752), ∀ (k0_h1 : k0_cond1 i = 1#1), ∀ a, (k0_off225 v1752) a + S8x128.size a ≤ S65536x128.size a := fun i v1752 k0_hw113 k0_h1 => k0_hw113.2.1 k0_h1
theorem k0_off226_inb : ∀ (i : grid0.Coords) (v1752 : BitVec 32) (k0_hw113 : k0_chk113 i v1752), ∀ (k0_h1 : k0_cond1 i = 1#1), ∀ a, (k0_off226 v1752) a + S1x128.size a ≤ S8192x128.size a := fun i v1752 k0_hw113 k0_h1 => k0_hw113.2.2 k0_h1

def k0_mult114 (v1767 : BitVec 32) : BitVec 32 :=
  let c3_i32_942 : BitVec 32 := 3#32
  let v1768 : BitVec 32 := Scalar.shrsi v1767 c3_i32_942
  let c8191_i32_943 : BitVec 32 := 8191#32
  let v1769 : BitVec 32 := Scalar.andi v1768 c8191_i32_943
  let c8_i32_944 : BitVec 32 := 8#32
  let v1770 : BitVec 32 := Scalar.muli v1769 c8_i32_944
  v1770

def k0_off227 (v1767 : BitVec 32) : Fin 2 → Nat :=
  let c3_i32_942 : BitVec 32 := 3#32
  let v1768 : BitVec 32 := Scalar.shrsi v1767 c3_i32_942
  let c8191_i32_943 : BitVec 32 := 8191#32
  let v1769 : BitVec 32 := Scalar.andi v1768 c8191_i32_943
  let c8_i32_944 : BitVec 32 := 8#32
  let v1770 : BitVec 32 := Scalar.muli v1769 c8_i32_944
  let v1771 : BitVec 32 := v1770
  let v1772 : Index := Scalar.indexCast v1771
  let c0_945 : Index := 0#32
  ![v1772.toNat, 0]
def k0_off228 (v1767 : BitVec 32) : Fin 2 → Nat :=
  let c3_i32_942 : BitVec 32 := 3#32
  let v1768 : BitVec 32 := Scalar.shrsi v1767 c3_i32_942
  let c8191_i32_943 : BitVec 32 := 8191#32
  let v1769 : BitVec 32 := Scalar.andi v1768 c8191_i32_943
  let v1777 : Index := Scalar.indexCast v1769
  let c0_947 : Index := 0#32
  ![v1777.toNat, 0]

def k0_chk114 (i : grid0.Coords) (v1767 : BitVec 32) : Prop :=
  (∀ (k0_h1 : k0_cond1 i = 1#1), 8 ∣ (k0_mult114 v1767).toNat) ∧
  (∀ (k0_h1 : k0_cond1 i = 1#1), ∀ a, (k0_off227 v1767) a + S8x128.size a ≤ S65536x128.size a) ∧
  (∀ (k0_h1 : k0_cond1 i = 1#1), ∀ a, (k0_off228 v1767) a + S1x128.size a ≤ S8192x128.size a)
theorem k0_mult114_dvd : ∀ (i : grid0.Coords) (v1767 : BitVec 32) (k0_hw114 : k0_chk114 i v1767), ∀ (k0_h1 : k0_cond1 i = 1#1), 8 ∣ (k0_mult114 v1767).toNat := fun i v1767 k0_hw114 k0_h1 => k0_hw114.1 k0_h1
theorem k0_off227_inb : ∀ (i : grid0.Coords) (v1767 : BitVec 32) (k0_hw114 : k0_chk114 i v1767), ∀ (k0_h1 : k0_cond1 i = 1#1), ∀ a, (k0_off227 v1767) a + S8x128.size a ≤ S65536x128.size a := fun i v1767 k0_hw114 k0_h1 => k0_hw114.2.1 k0_h1
theorem k0_off228_inb : ∀ (i : grid0.Coords) (v1767 : BitVec 32) (k0_hw114 : k0_chk114 i v1767), ∀ (k0_h1 : k0_cond1 i = 1#1), ∀ a, (k0_off228 v1767) a + S1x128.size a ≤ S8192x128.size a := fun i v1767 k0_hw114 k0_h1 => k0_hw114.2.2 k0_h1

def k0_mult115 (v1782 : BitVec 32) : BitVec 32 :=
  let c3_i32_950 : BitVec 32 := 3#32
  let v1783 : BitVec 32 := Scalar.shrsi v1782 c3_i32_950
  let c8191_i32_951 : BitVec 32 := 8191#32
  let v1784 : BitVec 32 := Scalar.andi v1783 c8191_i32_951
  let c8_i32_952 : BitVec 32 := 8#32
  let v1785 : BitVec 32 := Scalar.muli v1784 c8_i32_952
  v1785

def k0_off229 (v1782 : BitVec 32) : Fin 2 → Nat :=
  let c3_i32_950 : BitVec 32 := 3#32
  let v1783 : BitVec 32 := Scalar.shrsi v1782 c3_i32_950
  let c8191_i32_951 : BitVec 32 := 8191#32
  let v1784 : BitVec 32 := Scalar.andi v1783 c8191_i32_951
  let c8_i32_952 : BitVec 32 := 8#32
  let v1785 : BitVec 32 := Scalar.muli v1784 c8_i32_952
  let v1786 : BitVec 32 := v1785
  let v1787 : Index := Scalar.indexCast v1786
  let c0_953 : Index := 0#32
  ![v1787.toNat, 0]
def k0_off230 (v1782 : BitVec 32) : Fin 2 → Nat :=
  let c3_i32_950 : BitVec 32 := 3#32
  let v1783 : BitVec 32 := Scalar.shrsi v1782 c3_i32_950
  let c8191_i32_951 : BitVec 32 := 8191#32
  let v1784 : BitVec 32 := Scalar.andi v1783 c8191_i32_951
  let v1792 : Index := Scalar.indexCast v1784
  let c0_955 : Index := 0#32
  ![v1792.toNat, 0]

def k0_chk115 (i : grid0.Coords) (v1782 : BitVec 32) : Prop :=
  (∀ (k0_h1 : k0_cond1 i = 1#1), 8 ∣ (k0_mult115 v1782).toNat) ∧
  (∀ (k0_h1 : k0_cond1 i = 1#1), ∀ a, (k0_off229 v1782) a + S8x128.size a ≤ S65536x128.size a) ∧
  (∀ (k0_h1 : k0_cond1 i = 1#1), ∀ a, (k0_off230 v1782) a + S1x128.size a ≤ S8192x128.size a)
theorem k0_mult115_dvd : ∀ (i : grid0.Coords) (v1782 : BitVec 32) (k0_hw115 : k0_chk115 i v1782), ∀ (k0_h1 : k0_cond1 i = 1#1), 8 ∣ (k0_mult115 v1782).toNat := fun i v1782 k0_hw115 k0_h1 => k0_hw115.1 k0_h1
theorem k0_off229_inb : ∀ (i : grid0.Coords) (v1782 : BitVec 32) (k0_hw115 : k0_chk115 i v1782), ∀ (k0_h1 : k0_cond1 i = 1#1), ∀ a, (k0_off229 v1782) a + S8x128.size a ≤ S65536x128.size a := fun i v1782 k0_hw115 k0_h1 => k0_hw115.2.1 k0_h1
theorem k0_off230_inb : ∀ (i : grid0.Coords) (v1782 : BitVec 32) (k0_hw115 : k0_chk115 i v1782), ∀ (k0_h1 : k0_cond1 i = 1#1), ∀ a, (k0_off230 v1782) a + S1x128.size a ≤ S8192x128.size a := fun i v1782 k0_hw115 k0_h1 => k0_hw115.2.2 k0_h1

def k0_mult116 (v1797 : BitVec 32) : BitVec 32 :=
  let c3_i32_958 : BitVec 32 := 3#32
  let v1798 : BitVec 32 := Scalar.shrsi v1797 c3_i32_958
  let c8191_i32_959 : BitVec 32 := 8191#32
  let v1799 : BitVec 32 := Scalar.andi v1798 c8191_i32_959
  let c8_i32_960 : BitVec 32 := 8#32
  let v1800 : BitVec 32 := Scalar.muli v1799 c8_i32_960
  v1800

def k0_off231 (v1797 : BitVec 32) : Fin 2 → Nat :=
  let c3_i32_958 : BitVec 32 := 3#32
  let v1798 : BitVec 32 := Scalar.shrsi v1797 c3_i32_958
  let c8191_i32_959 : BitVec 32 := 8191#32
  let v1799 : BitVec 32 := Scalar.andi v1798 c8191_i32_959
  let c8_i32_960 : BitVec 32 := 8#32
  let v1800 : BitVec 32 := Scalar.muli v1799 c8_i32_960
  let v1801 : BitVec 32 := v1800
  let v1802 : Index := Scalar.indexCast v1801
  let c0_961 : Index := 0#32
  ![v1802.toNat, 0]
def k0_off232 (v1797 : BitVec 32) : Fin 2 → Nat :=
  let c3_i32_958 : BitVec 32 := 3#32
  let v1798 : BitVec 32 := Scalar.shrsi v1797 c3_i32_958
  let c8191_i32_959 : BitVec 32 := 8191#32
  let v1799 : BitVec 32 := Scalar.andi v1798 c8191_i32_959
  let v1807 : Index := Scalar.indexCast v1799
  let c0_963 : Index := 0#32
  ![v1807.toNat, 0]

def k0_chk116 (i : grid0.Coords) (v1797 : BitVec 32) : Prop :=
  (∀ (k0_h1 : k0_cond1 i = 1#1), 8 ∣ (k0_mult116 v1797).toNat) ∧
  (∀ (k0_h1 : k0_cond1 i = 1#1), ∀ a, (k0_off231 v1797) a + S8x128.size a ≤ S65536x128.size a) ∧
  (∀ (k0_h1 : k0_cond1 i = 1#1), ∀ a, (k0_off232 v1797) a + S1x128.size a ≤ S8192x128.size a)
theorem k0_mult116_dvd : ∀ (i : grid0.Coords) (v1797 : BitVec 32) (k0_hw116 : k0_chk116 i v1797), ∀ (k0_h1 : k0_cond1 i = 1#1), 8 ∣ (k0_mult116 v1797).toNat := fun i v1797 k0_hw116 k0_h1 => k0_hw116.1 k0_h1
theorem k0_off231_inb : ∀ (i : grid0.Coords) (v1797 : BitVec 32) (k0_hw116 : k0_chk116 i v1797), ∀ (k0_h1 : k0_cond1 i = 1#1), ∀ a, (k0_off231 v1797) a + S8x128.size a ≤ S65536x128.size a := fun i v1797 k0_hw116 k0_h1 => k0_hw116.2.1 k0_h1
theorem k0_off232_inb : ∀ (i : grid0.Coords) (v1797 : BitVec 32) (k0_hw116 : k0_chk116 i v1797), ∀ (k0_h1 : k0_cond1 i = 1#1), ∀ a, (k0_off232 v1797) a + S1x128.size a ≤ S8192x128.size a := fun i v1797 k0_hw116 k0_h1 => k0_hw116.2.2 k0_h1

def k0_mult117 (v1812 : BitVec 32) : BitVec 32 :=
  let c3_i32_966 : BitVec 32 := 3#32
  let v1813 : BitVec 32 := Scalar.shrsi v1812 c3_i32_966
  let c8191_i32_967 : BitVec 32 := 8191#32
  let v1814 : BitVec 32 := Scalar.andi v1813 c8191_i32_967
  let c8_i32_968 : BitVec 32 := 8#32
  let v1815 : BitVec 32 := Scalar.muli v1814 c8_i32_968
  v1815

def k0_off233 (v1812 : BitVec 32) : Fin 2 → Nat :=
  let c3_i32_966 : BitVec 32 := 3#32
  let v1813 : BitVec 32 := Scalar.shrsi v1812 c3_i32_966
  let c8191_i32_967 : BitVec 32 := 8191#32
  let v1814 : BitVec 32 := Scalar.andi v1813 c8191_i32_967
  let c8_i32_968 : BitVec 32 := 8#32
  let v1815 : BitVec 32 := Scalar.muli v1814 c8_i32_968
  let v1816 : BitVec 32 := v1815
  let v1817 : Index := Scalar.indexCast v1816
  let c0_969 : Index := 0#32
  ![v1817.toNat, 0]
def k0_off234 (v1812 : BitVec 32) : Fin 2 → Nat :=
  let c3_i32_966 : BitVec 32 := 3#32
  let v1813 : BitVec 32 := Scalar.shrsi v1812 c3_i32_966
  let c8191_i32_967 : BitVec 32 := 8191#32
  let v1814 : BitVec 32 := Scalar.andi v1813 c8191_i32_967
  let v1822 : Index := Scalar.indexCast v1814
  let c0_971 : Index := 0#32
  ![v1822.toNat, 0]

def k0_chk117 (i : grid0.Coords) (v1812 : BitVec 32) : Prop :=
  (∀ (k0_h1 : k0_cond1 i = 1#1), 8 ∣ (k0_mult117 v1812).toNat) ∧
  (∀ (k0_h1 : k0_cond1 i = 1#1), ∀ a, (k0_off233 v1812) a + S8x128.size a ≤ S65536x128.size a) ∧
  (∀ (k0_h1 : k0_cond1 i = 1#1), ∀ a, (k0_off234 v1812) a + S1x128.size a ≤ S8192x128.size a)
theorem k0_mult117_dvd : ∀ (i : grid0.Coords) (v1812 : BitVec 32) (k0_hw117 : k0_chk117 i v1812), ∀ (k0_h1 : k0_cond1 i = 1#1), 8 ∣ (k0_mult117 v1812).toNat := fun i v1812 k0_hw117 k0_h1 => k0_hw117.1 k0_h1
theorem k0_off233_inb : ∀ (i : grid0.Coords) (v1812 : BitVec 32) (k0_hw117 : k0_chk117 i v1812), ∀ (k0_h1 : k0_cond1 i = 1#1), ∀ a, (k0_off233 v1812) a + S8x128.size a ≤ S65536x128.size a := fun i v1812 k0_hw117 k0_h1 => k0_hw117.2.1 k0_h1
theorem k0_off234_inb : ∀ (i : grid0.Coords) (v1812 : BitVec 32) (k0_hw117 : k0_chk117 i v1812), ∀ (k0_h1 : k0_cond1 i = 1#1), ∀ a, (k0_off234 v1812) a + S1x128.size a ≤ S8192x128.size a := fun i v1812 k0_hw117 k0_h1 => k0_hw117.2.2 k0_h1

def k0_mult118 (v1827 : BitVec 32) : BitVec 32 :=
  let c3_i32_974 : BitVec 32 := 3#32
  let v1828 : BitVec 32 := Scalar.shrsi v1827 c3_i32_974
  let c8191_i32_975 : BitVec 32 := 8191#32
  let v1829 : BitVec 32 := Scalar.andi v1828 c8191_i32_975
  let c8_i32_976 : BitVec 32 := 8#32
  let v1830 : BitVec 32 := Scalar.muli v1829 c8_i32_976
  v1830

def k0_off235 (v1827 : BitVec 32) : Fin 2 → Nat :=
  let c3_i32_974 : BitVec 32 := 3#32
  let v1828 : BitVec 32 := Scalar.shrsi v1827 c3_i32_974
  let c8191_i32_975 : BitVec 32 := 8191#32
  let v1829 : BitVec 32 := Scalar.andi v1828 c8191_i32_975
  let c8_i32_976 : BitVec 32 := 8#32
  let v1830 : BitVec 32 := Scalar.muli v1829 c8_i32_976
  let v1831 : BitVec 32 := v1830
  let v1832 : Index := Scalar.indexCast v1831
  let c0_977 : Index := 0#32
  ![v1832.toNat, 0]
def k0_off236 (v1827 : BitVec 32) : Fin 2 → Nat :=
  let c3_i32_974 : BitVec 32 := 3#32
  let v1828 : BitVec 32 := Scalar.shrsi v1827 c3_i32_974
  let c8191_i32_975 : BitVec 32 := 8191#32
  let v1829 : BitVec 32 := Scalar.andi v1828 c8191_i32_975
  let v1837 : Index := Scalar.indexCast v1829
  let c0_979 : Index := 0#32
  ![v1837.toNat, 0]

def k0_chk118 (i : grid0.Coords) (v1827 : BitVec 32) : Prop :=
  (∀ (k0_h1 : k0_cond1 i = 1#1), 8 ∣ (k0_mult118 v1827).toNat) ∧
  (∀ (k0_h1 : k0_cond1 i = 1#1), ∀ a, (k0_off235 v1827) a + S8x128.size a ≤ S65536x128.size a) ∧
  (∀ (k0_h1 : k0_cond1 i = 1#1), ∀ a, (k0_off236 v1827) a + S1x128.size a ≤ S8192x128.size a)
theorem k0_mult118_dvd : ∀ (i : grid0.Coords) (v1827 : BitVec 32) (k0_hw118 : k0_chk118 i v1827), ∀ (k0_h1 : k0_cond1 i = 1#1), 8 ∣ (k0_mult118 v1827).toNat := fun i v1827 k0_hw118 k0_h1 => k0_hw118.1 k0_h1
theorem k0_off235_inb : ∀ (i : grid0.Coords) (v1827 : BitVec 32) (k0_hw118 : k0_chk118 i v1827), ∀ (k0_h1 : k0_cond1 i = 1#1), ∀ a, (k0_off235 v1827) a + S8x128.size a ≤ S65536x128.size a := fun i v1827 k0_hw118 k0_h1 => k0_hw118.2.1 k0_h1
theorem k0_off236_inb : ∀ (i : grid0.Coords) (v1827 : BitVec 32) (k0_hw118 : k0_chk118 i v1827), ∀ (k0_h1 : k0_cond1 i = 1#1), ∀ a, (k0_off236 v1827) a + S1x128.size a ≤ S8192x128.size a := fun i v1827 k0_hw118 k0_h1 => k0_hw118.2.2 k0_h1

def k0_mult119 (v1842 : BitVec 32) : BitVec 32 :=
  let c3_i32_982 : BitVec 32 := 3#32
  let v1843 : BitVec 32 := Scalar.shrsi v1842 c3_i32_982
  let c8191_i32_983 : BitVec 32 := 8191#32
  let v1844 : BitVec 32 := Scalar.andi v1843 c8191_i32_983
  let c8_i32_984 : BitVec 32 := 8#32
  let v1845 : BitVec 32 := Scalar.muli v1844 c8_i32_984
  v1845

def k0_off237 (v1842 : BitVec 32) : Fin 2 → Nat :=
  let c3_i32_982 : BitVec 32 := 3#32
  let v1843 : BitVec 32 := Scalar.shrsi v1842 c3_i32_982
  let c8191_i32_983 : BitVec 32 := 8191#32
  let v1844 : BitVec 32 := Scalar.andi v1843 c8191_i32_983
  let c8_i32_984 : BitVec 32 := 8#32
  let v1845 : BitVec 32 := Scalar.muli v1844 c8_i32_984
  let v1846 : BitVec 32 := v1845
  let v1847 : Index := Scalar.indexCast v1846
  let c0_985 : Index := 0#32
  ![v1847.toNat, 0]
def k0_off238 (v1842 : BitVec 32) : Fin 2 → Nat :=
  let c3_i32_982 : BitVec 32 := 3#32
  let v1843 : BitVec 32 := Scalar.shrsi v1842 c3_i32_982
  let c8191_i32_983 : BitVec 32 := 8191#32
  let v1844 : BitVec 32 := Scalar.andi v1843 c8191_i32_983
  let v1852 : Index := Scalar.indexCast v1844
  let c0_987 : Index := 0#32
  ![v1852.toNat, 0]

def k0_chk119 (i : grid0.Coords) (v1842 : BitVec 32) : Prop :=
  (∀ (k0_h1 : k0_cond1 i = 1#1), 8 ∣ (k0_mult119 v1842).toNat) ∧
  (∀ (k0_h1 : k0_cond1 i = 1#1), ∀ a, (k0_off237 v1842) a + S8x128.size a ≤ S65536x128.size a) ∧
  (∀ (k0_h1 : k0_cond1 i = 1#1), ∀ a, (k0_off238 v1842) a + S1x128.size a ≤ S8192x128.size a)
theorem k0_mult119_dvd : ∀ (i : grid0.Coords) (v1842 : BitVec 32) (k0_hw119 : k0_chk119 i v1842), ∀ (k0_h1 : k0_cond1 i = 1#1), 8 ∣ (k0_mult119 v1842).toNat := fun i v1842 k0_hw119 k0_h1 => k0_hw119.1 k0_h1
theorem k0_off237_inb : ∀ (i : grid0.Coords) (v1842 : BitVec 32) (k0_hw119 : k0_chk119 i v1842), ∀ (k0_h1 : k0_cond1 i = 1#1), ∀ a, (k0_off237 v1842) a + S8x128.size a ≤ S65536x128.size a := fun i v1842 k0_hw119 k0_h1 => k0_hw119.2.1 k0_h1
theorem k0_off238_inb : ∀ (i : grid0.Coords) (v1842 : BitVec 32) (k0_hw119 : k0_chk119 i v1842), ∀ (k0_h1 : k0_cond1 i = 1#1), ∀ a, (k0_off238 v1842) a + S1x128.size a ≤ S8192x128.size a := fun i v1842 k0_hw119 k0_h1 => k0_hw119.2.2 k0_h1

def k0_mult120 (v1857 : BitVec 32) : BitVec 32 :=
  let c3_i32_990 : BitVec 32 := 3#32
  let v1858 : BitVec 32 := Scalar.shrsi v1857 c3_i32_990
  let c8191_i32_991 : BitVec 32 := 8191#32
  let v1859 : BitVec 32 := Scalar.andi v1858 c8191_i32_991
  let c8_i32_992 : BitVec 32 := 8#32
  let v1860 : BitVec 32 := Scalar.muli v1859 c8_i32_992
  v1860

def k0_off239 (v1857 : BitVec 32) : Fin 2 → Nat :=
  let c3_i32_990 : BitVec 32 := 3#32
  let v1858 : BitVec 32 := Scalar.shrsi v1857 c3_i32_990
  let c8191_i32_991 : BitVec 32 := 8191#32
  let v1859 : BitVec 32 := Scalar.andi v1858 c8191_i32_991
  let c8_i32_992 : BitVec 32 := 8#32
  let v1860 : BitVec 32 := Scalar.muli v1859 c8_i32_992
  let v1861 : BitVec 32 := v1860
  let v1862 : Index := Scalar.indexCast v1861
  let c0_993 : Index := 0#32
  ![v1862.toNat, 0]
def k0_off240 (v1857 : BitVec 32) : Fin 2 → Nat :=
  let c3_i32_990 : BitVec 32 := 3#32
  let v1858 : BitVec 32 := Scalar.shrsi v1857 c3_i32_990
  let c8191_i32_991 : BitVec 32 := 8191#32
  let v1859 : BitVec 32 := Scalar.andi v1858 c8191_i32_991
  let v1867 : Index := Scalar.indexCast v1859
  let c0_995 : Index := 0#32
  ![v1867.toNat, 0]

def k0_chk120 (i : grid0.Coords) (v1857 : BitVec 32) : Prop :=
  (∀ (k0_h1 : k0_cond1 i = 1#1), 8 ∣ (k0_mult120 v1857).toNat) ∧
  (∀ (k0_h1 : k0_cond1 i = 1#1), ∀ a, (k0_off239 v1857) a + S8x128.size a ≤ S65536x128.size a) ∧
  (∀ (k0_h1 : k0_cond1 i = 1#1), ∀ a, (k0_off240 v1857) a + S1x128.size a ≤ S8192x128.size a)
theorem k0_mult120_dvd : ∀ (i : grid0.Coords) (v1857 : BitVec 32) (k0_hw120 : k0_chk120 i v1857), ∀ (k0_h1 : k0_cond1 i = 1#1), 8 ∣ (k0_mult120 v1857).toNat := fun i v1857 k0_hw120 k0_h1 => k0_hw120.1 k0_h1
theorem k0_off239_inb : ∀ (i : grid0.Coords) (v1857 : BitVec 32) (k0_hw120 : k0_chk120 i v1857), ∀ (k0_h1 : k0_cond1 i = 1#1), ∀ a, (k0_off239 v1857) a + S8x128.size a ≤ S65536x128.size a := fun i v1857 k0_hw120 k0_h1 => k0_hw120.2.1 k0_h1
theorem k0_off240_inb : ∀ (i : grid0.Coords) (v1857 : BitVec 32) (k0_hw120 : k0_chk120 i v1857), ∀ (k0_h1 : k0_cond1 i = 1#1), ∀ a, (k0_off240 v1857) a + S1x128.size a ≤ S8192x128.size a := fun i v1857 k0_hw120 k0_h1 => k0_hw120.2.2 k0_h1

def k0_mult121 (v1872 : BitVec 32) : BitVec 32 :=
  let c3_i32_999 : BitVec 32 := 3#32
  let v1873 : BitVec 32 := Scalar.shrsi v1872 c3_i32_999
  let c8191_i32_1000 : BitVec 32 := 8191#32
  let v1874 : BitVec 32 := Scalar.andi v1873 c8191_i32_1000
  let c8_i32_1001 : BitVec 32 := 8#32
  let v1875 : BitVec 32 := Scalar.muli v1874 c8_i32_1001
  v1875

def k0_off241 (v1872 : BitVec 32) : Fin 2 → Nat :=
  let c3_i32_999 : BitVec 32 := 3#32
  let v1873 : BitVec 32 := Scalar.shrsi v1872 c3_i32_999
  let c8191_i32_1000 : BitVec 32 := 8191#32
  let v1874 : BitVec 32 := Scalar.andi v1873 c8191_i32_1000
  let c8_i32_1001 : BitVec 32 := 8#32
  let v1875 : BitVec 32 := Scalar.muli v1874 c8_i32_1001
  let v1876 : BitVec 32 := v1875
  let v1877 : Index := Scalar.indexCast v1876
  let c0_1002 : Index := 0#32
  ![v1877.toNat, 0]
def k0_off242 (v1872 : BitVec 32) : Fin 2 → Nat :=
  let c3_i32_999 : BitVec 32 := 3#32
  let v1873 : BitVec 32 := Scalar.shrsi v1872 c3_i32_999
  let c8191_i32_1000 : BitVec 32 := 8191#32
  let v1874 : BitVec 32 := Scalar.andi v1873 c8191_i32_1000
  let v1882 : Index := Scalar.indexCast v1874
  let c0_1004 : Index := 0#32
  ![v1882.toNat, 0]

def k0_chk121 (i : grid0.Coords) (v1872 : BitVec 32) : Prop :=
  (∀ (k0_h1 : k0_cond1 i = 1#1), 8 ∣ (k0_mult121 v1872).toNat) ∧
  (∀ (k0_h1 : k0_cond1 i = 1#1), ∀ a, (k0_off241 v1872) a + S8x128.size a ≤ S65536x128.size a) ∧
  (∀ (k0_h1 : k0_cond1 i = 1#1), ∀ a, (k0_off242 v1872) a + S1x128.size a ≤ S8192x128.size a)
theorem k0_mult121_dvd : ∀ (i : grid0.Coords) (v1872 : BitVec 32) (k0_hw121 : k0_chk121 i v1872), ∀ (k0_h1 : k0_cond1 i = 1#1), 8 ∣ (k0_mult121 v1872).toNat := fun i v1872 k0_hw121 k0_h1 => k0_hw121.1 k0_h1
theorem k0_off241_inb : ∀ (i : grid0.Coords) (v1872 : BitVec 32) (k0_hw121 : k0_chk121 i v1872), ∀ (k0_h1 : k0_cond1 i = 1#1), ∀ a, (k0_off241 v1872) a + S8x128.size a ≤ S65536x128.size a := fun i v1872 k0_hw121 k0_h1 => k0_hw121.2.1 k0_h1
theorem k0_off242_inb : ∀ (i : grid0.Coords) (v1872 : BitVec 32) (k0_hw121 : k0_chk121 i v1872), ∀ (k0_h1 : k0_cond1 i = 1#1), ∀ a, (k0_off242 v1872) a + S1x128.size a ≤ S8192x128.size a := fun i v1872 k0_hw121 k0_h1 => k0_hw121.2.2 k0_h1

def k0_mult122 (v1887 : BitVec 32) : BitVec 32 :=
  let c3_i32_1007 : BitVec 32 := 3#32
  let v1888 : BitVec 32 := Scalar.shrsi v1887 c3_i32_1007
  let c8191_i32_1008 : BitVec 32 := 8191#32
  let v1889 : BitVec 32 := Scalar.andi v1888 c8191_i32_1008
  let c8_i32_1009 : BitVec 32 := 8#32
  let v1890 : BitVec 32 := Scalar.muli v1889 c8_i32_1009
  v1890

def k0_off243 (v1887 : BitVec 32) : Fin 2 → Nat :=
  let c3_i32_1007 : BitVec 32 := 3#32
  let v1888 : BitVec 32 := Scalar.shrsi v1887 c3_i32_1007
  let c8191_i32_1008 : BitVec 32 := 8191#32
  let v1889 : BitVec 32 := Scalar.andi v1888 c8191_i32_1008
  let c8_i32_1009 : BitVec 32 := 8#32
  let v1890 : BitVec 32 := Scalar.muli v1889 c8_i32_1009
  let v1891 : BitVec 32 := v1890
  let v1892 : Index := Scalar.indexCast v1891
  let c0_1010 : Index := 0#32
  ![v1892.toNat, 0]
def k0_off244 (v1887 : BitVec 32) : Fin 2 → Nat :=
  let c3_i32_1007 : BitVec 32 := 3#32
  let v1888 : BitVec 32 := Scalar.shrsi v1887 c3_i32_1007
  let c8191_i32_1008 : BitVec 32 := 8191#32
  let v1889 : BitVec 32 := Scalar.andi v1888 c8191_i32_1008
  let v1897 : Index := Scalar.indexCast v1889
  let c0_1012 : Index := 0#32
  ![v1897.toNat, 0]

def k0_chk122 (i : grid0.Coords) (v1887 : BitVec 32) : Prop :=
  (∀ (k0_h1 : k0_cond1 i = 1#1), 8 ∣ (k0_mult122 v1887).toNat) ∧
  (∀ (k0_h1 : k0_cond1 i = 1#1), ∀ a, (k0_off243 v1887) a + S8x128.size a ≤ S65536x128.size a) ∧
  (∀ (k0_h1 : k0_cond1 i = 1#1), ∀ a, (k0_off244 v1887) a + S1x128.size a ≤ S8192x128.size a)
theorem k0_mult122_dvd : ∀ (i : grid0.Coords) (v1887 : BitVec 32) (k0_hw122 : k0_chk122 i v1887), ∀ (k0_h1 : k0_cond1 i = 1#1), 8 ∣ (k0_mult122 v1887).toNat := fun i v1887 k0_hw122 k0_h1 => k0_hw122.1 k0_h1
theorem k0_off243_inb : ∀ (i : grid0.Coords) (v1887 : BitVec 32) (k0_hw122 : k0_chk122 i v1887), ∀ (k0_h1 : k0_cond1 i = 1#1), ∀ a, (k0_off243 v1887) a + S8x128.size a ≤ S65536x128.size a := fun i v1887 k0_hw122 k0_h1 => k0_hw122.2.1 k0_h1
theorem k0_off244_inb : ∀ (i : grid0.Coords) (v1887 : BitVec 32) (k0_hw122 : k0_chk122 i v1887), ∀ (k0_h1 : k0_cond1 i = 1#1), ∀ a, (k0_off244 v1887) a + S1x128.size a ≤ S8192x128.size a := fun i v1887 k0_hw122 k0_h1 => k0_hw122.2.2 k0_h1

def k0_mult123 (v1902 : BitVec 32) : BitVec 32 :=
  let c3_i32_1015 : BitVec 32 := 3#32
  let v1903 : BitVec 32 := Scalar.shrsi v1902 c3_i32_1015
  let c8191_i32_1016 : BitVec 32 := 8191#32
  let v1904 : BitVec 32 := Scalar.andi v1903 c8191_i32_1016
  let c8_i32_1017 : BitVec 32 := 8#32
  let v1905 : BitVec 32 := Scalar.muli v1904 c8_i32_1017
  v1905

def k0_off245 (v1902 : BitVec 32) : Fin 2 → Nat :=
  let c3_i32_1015 : BitVec 32 := 3#32
  let v1903 : BitVec 32 := Scalar.shrsi v1902 c3_i32_1015
  let c8191_i32_1016 : BitVec 32 := 8191#32
  let v1904 : BitVec 32 := Scalar.andi v1903 c8191_i32_1016
  let c8_i32_1017 : BitVec 32 := 8#32
  let v1905 : BitVec 32 := Scalar.muli v1904 c8_i32_1017
  let v1906 : BitVec 32 := v1905
  let v1907 : Index := Scalar.indexCast v1906
  let c0_1018 : Index := 0#32
  ![v1907.toNat, 0]
def k0_off246 (v1902 : BitVec 32) : Fin 2 → Nat :=
  let c3_i32_1015 : BitVec 32 := 3#32
  let v1903 : BitVec 32 := Scalar.shrsi v1902 c3_i32_1015
  let c8191_i32_1016 : BitVec 32 := 8191#32
  let v1904 : BitVec 32 := Scalar.andi v1903 c8191_i32_1016
  let v1912 : Index := Scalar.indexCast v1904
  let c0_1020 : Index := 0#32
  ![v1912.toNat, 0]

def k0_chk123 (i : grid0.Coords) (v1902 : BitVec 32) : Prop :=
  (∀ (k0_h1 : k0_cond1 i = 1#1), 8 ∣ (k0_mult123 v1902).toNat) ∧
  (∀ (k0_h1 : k0_cond1 i = 1#1), ∀ a, (k0_off245 v1902) a + S8x128.size a ≤ S65536x128.size a) ∧
  (∀ (k0_h1 : k0_cond1 i = 1#1), ∀ a, (k0_off246 v1902) a + S1x128.size a ≤ S8192x128.size a)
theorem k0_mult123_dvd : ∀ (i : grid0.Coords) (v1902 : BitVec 32) (k0_hw123 : k0_chk123 i v1902), ∀ (k0_h1 : k0_cond1 i = 1#1), 8 ∣ (k0_mult123 v1902).toNat := fun i v1902 k0_hw123 k0_h1 => k0_hw123.1 k0_h1
theorem k0_off245_inb : ∀ (i : grid0.Coords) (v1902 : BitVec 32) (k0_hw123 : k0_chk123 i v1902), ∀ (k0_h1 : k0_cond1 i = 1#1), ∀ a, (k0_off245 v1902) a + S8x128.size a ≤ S65536x128.size a := fun i v1902 k0_hw123 k0_h1 => k0_hw123.2.1 k0_h1
theorem k0_off246_inb : ∀ (i : grid0.Coords) (v1902 : BitVec 32) (k0_hw123 : k0_chk123 i v1902), ∀ (k0_h1 : k0_cond1 i = 1#1), ∀ a, (k0_off246 v1902) a + S1x128.size a ≤ S8192x128.size a := fun i v1902 k0_hw123 k0_h1 => k0_hw123.2.2 k0_h1

def k0_mult124 (v1917 : BitVec 32) : BitVec 32 :=
  let c3_i32_1023 : BitVec 32 := 3#32
  let v1918 : BitVec 32 := Scalar.shrsi v1917 c3_i32_1023
  let c8191_i32_1024 : BitVec 32 := 8191#32
  let v1919 : BitVec 32 := Scalar.andi v1918 c8191_i32_1024
  let c8_i32_1025 : BitVec 32 := 8#32
  let v1920 : BitVec 32 := Scalar.muli v1919 c8_i32_1025
  v1920

def k0_off247 (v1917 : BitVec 32) : Fin 2 → Nat :=
  let c3_i32_1023 : BitVec 32 := 3#32
  let v1918 : BitVec 32 := Scalar.shrsi v1917 c3_i32_1023
  let c8191_i32_1024 : BitVec 32 := 8191#32
  let v1919 : BitVec 32 := Scalar.andi v1918 c8191_i32_1024
  let c8_i32_1025 : BitVec 32 := 8#32
  let v1920 : BitVec 32 := Scalar.muli v1919 c8_i32_1025
  let v1921 : BitVec 32 := v1920
  let v1922 : Index := Scalar.indexCast v1921
  let c0_1026 : Index := 0#32
  ![v1922.toNat, 0]
def k0_off248 (v1917 : BitVec 32) : Fin 2 → Nat :=
  let c3_i32_1023 : BitVec 32 := 3#32
  let v1918 : BitVec 32 := Scalar.shrsi v1917 c3_i32_1023
  let c8191_i32_1024 : BitVec 32 := 8191#32
  let v1919 : BitVec 32 := Scalar.andi v1918 c8191_i32_1024
  let v1927 : Index := Scalar.indexCast v1919
  let c0_1028 : Index := 0#32
  ![v1927.toNat, 0]

def k0_chk124 (i : grid0.Coords) (v1917 : BitVec 32) : Prop :=
  (∀ (k0_h1 : k0_cond1 i = 1#1), 8 ∣ (k0_mult124 v1917).toNat) ∧
  (∀ (k0_h1 : k0_cond1 i = 1#1), ∀ a, (k0_off247 v1917) a + S8x128.size a ≤ S65536x128.size a) ∧
  (∀ (k0_h1 : k0_cond1 i = 1#1), ∀ a, (k0_off248 v1917) a + S1x128.size a ≤ S8192x128.size a)
theorem k0_mult124_dvd : ∀ (i : grid0.Coords) (v1917 : BitVec 32) (k0_hw124 : k0_chk124 i v1917), ∀ (k0_h1 : k0_cond1 i = 1#1), 8 ∣ (k0_mult124 v1917).toNat := fun i v1917 k0_hw124 k0_h1 => k0_hw124.1 k0_h1
theorem k0_off247_inb : ∀ (i : grid0.Coords) (v1917 : BitVec 32) (k0_hw124 : k0_chk124 i v1917), ∀ (k0_h1 : k0_cond1 i = 1#1), ∀ a, (k0_off247 v1917) a + S8x128.size a ≤ S65536x128.size a := fun i v1917 k0_hw124 k0_h1 => k0_hw124.2.1 k0_h1
theorem k0_off248_inb : ∀ (i : grid0.Coords) (v1917 : BitVec 32) (k0_hw124 : k0_chk124 i v1917), ∀ (k0_h1 : k0_cond1 i = 1#1), ∀ a, (k0_off248 v1917) a + S1x128.size a ≤ S8192x128.size a := fun i v1917 k0_hw124 k0_h1 => k0_hw124.2.2 k0_h1

def k0_mult125 (v1932 : BitVec 32) : BitVec 32 :=
  let c3_i32_1031 : BitVec 32 := 3#32
  let v1933 : BitVec 32 := Scalar.shrsi v1932 c3_i32_1031
  let c8191_i32_1032 : BitVec 32 := 8191#32
  let v1934 : BitVec 32 := Scalar.andi v1933 c8191_i32_1032
  let c8_i32_1033 : BitVec 32 := 8#32
  let v1935 : BitVec 32 := Scalar.muli v1934 c8_i32_1033
  v1935

def k0_off249 (v1932 : BitVec 32) : Fin 2 → Nat :=
  let c3_i32_1031 : BitVec 32 := 3#32
  let v1933 : BitVec 32 := Scalar.shrsi v1932 c3_i32_1031
  let c8191_i32_1032 : BitVec 32 := 8191#32
  let v1934 : BitVec 32 := Scalar.andi v1933 c8191_i32_1032
  let c8_i32_1033 : BitVec 32 := 8#32
  let v1935 : BitVec 32 := Scalar.muli v1934 c8_i32_1033
  let v1936 : BitVec 32 := v1935
  let v1937 : Index := Scalar.indexCast v1936
  let c0_1034 : Index := 0#32
  ![v1937.toNat, 0]
def k0_off250 (v1932 : BitVec 32) : Fin 2 → Nat :=
  let c3_i32_1031 : BitVec 32 := 3#32
  let v1933 : BitVec 32 := Scalar.shrsi v1932 c3_i32_1031
  let c8191_i32_1032 : BitVec 32 := 8191#32
  let v1934 : BitVec 32 := Scalar.andi v1933 c8191_i32_1032
  let v1942 : Index := Scalar.indexCast v1934
  let c0_1036 : Index := 0#32
  ![v1942.toNat, 0]

def k0_chk125 (i : grid0.Coords) (v1932 : BitVec 32) : Prop :=
  (∀ (k0_h1 : k0_cond1 i = 1#1), 8 ∣ (k0_mult125 v1932).toNat) ∧
  (∀ (k0_h1 : k0_cond1 i = 1#1), ∀ a, (k0_off249 v1932) a + S8x128.size a ≤ S65536x128.size a) ∧
  (∀ (k0_h1 : k0_cond1 i = 1#1), ∀ a, (k0_off250 v1932) a + S1x128.size a ≤ S8192x128.size a)
theorem k0_mult125_dvd : ∀ (i : grid0.Coords) (v1932 : BitVec 32) (k0_hw125 : k0_chk125 i v1932), ∀ (k0_h1 : k0_cond1 i = 1#1), 8 ∣ (k0_mult125 v1932).toNat := fun i v1932 k0_hw125 k0_h1 => k0_hw125.1 k0_h1
theorem k0_off249_inb : ∀ (i : grid0.Coords) (v1932 : BitVec 32) (k0_hw125 : k0_chk125 i v1932), ∀ (k0_h1 : k0_cond1 i = 1#1), ∀ a, (k0_off249 v1932) a + S8x128.size a ≤ S65536x128.size a := fun i v1932 k0_hw125 k0_h1 => k0_hw125.2.1 k0_h1
theorem k0_off250_inb : ∀ (i : grid0.Coords) (v1932 : BitVec 32) (k0_hw125 : k0_chk125 i v1932), ∀ (k0_h1 : k0_cond1 i = 1#1), ∀ a, (k0_off250 v1932) a + S1x128.size a ≤ S8192x128.size a := fun i v1932 k0_hw125 k0_h1 => k0_hw125.2.2 k0_h1

def k0_mult126 (v1947 : BitVec 32) : BitVec 32 :=
  let c3_i32_1039 : BitVec 32 := 3#32
  let v1948 : BitVec 32 := Scalar.shrsi v1947 c3_i32_1039
  let c8191_i32_1040 : BitVec 32 := 8191#32
  let v1949 : BitVec 32 := Scalar.andi v1948 c8191_i32_1040
  let c8_i32_1041 : BitVec 32 := 8#32
  let v1950 : BitVec 32 := Scalar.muli v1949 c8_i32_1041
  v1950

def k0_off251 (v1947 : BitVec 32) : Fin 2 → Nat :=
  let c3_i32_1039 : BitVec 32 := 3#32
  let v1948 : BitVec 32 := Scalar.shrsi v1947 c3_i32_1039
  let c8191_i32_1040 : BitVec 32 := 8191#32
  let v1949 : BitVec 32 := Scalar.andi v1948 c8191_i32_1040
  let c8_i32_1041 : BitVec 32 := 8#32
  let v1950 : BitVec 32 := Scalar.muli v1949 c8_i32_1041
  let v1951 : BitVec 32 := v1950
  let v1952 : Index := Scalar.indexCast v1951
  let c0_1042 : Index := 0#32
  ![v1952.toNat, 0]
def k0_off252 (v1947 : BitVec 32) : Fin 2 → Nat :=
  let c3_i32_1039 : BitVec 32 := 3#32
  let v1948 : BitVec 32 := Scalar.shrsi v1947 c3_i32_1039
  let c8191_i32_1040 : BitVec 32 := 8191#32
  let v1949 : BitVec 32 := Scalar.andi v1948 c8191_i32_1040
  let v1957 : Index := Scalar.indexCast v1949
  let c0_1044 : Index := 0#32
  ![v1957.toNat, 0]

def k0_chk126 (i : grid0.Coords) (v1947 : BitVec 32) : Prop :=
  (∀ (k0_h1 : k0_cond1 i = 1#1), 8 ∣ (k0_mult126 v1947).toNat) ∧
  (∀ (k0_h1 : k0_cond1 i = 1#1), ∀ a, (k0_off251 v1947) a + S8x128.size a ≤ S65536x128.size a) ∧
  (∀ (k0_h1 : k0_cond1 i = 1#1), ∀ a, (k0_off252 v1947) a + S1x128.size a ≤ S8192x128.size a)
theorem k0_mult126_dvd : ∀ (i : grid0.Coords) (v1947 : BitVec 32) (k0_hw126 : k0_chk126 i v1947), ∀ (k0_h1 : k0_cond1 i = 1#1), 8 ∣ (k0_mult126 v1947).toNat := fun i v1947 k0_hw126 k0_h1 => k0_hw126.1 k0_h1
theorem k0_off251_inb : ∀ (i : grid0.Coords) (v1947 : BitVec 32) (k0_hw126 : k0_chk126 i v1947), ∀ (k0_h1 : k0_cond1 i = 1#1), ∀ a, (k0_off251 v1947) a + S8x128.size a ≤ S65536x128.size a := fun i v1947 k0_hw126 k0_h1 => k0_hw126.2.1 k0_h1
theorem k0_off252_inb : ∀ (i : grid0.Coords) (v1947 : BitVec 32) (k0_hw126 : k0_chk126 i v1947), ∀ (k0_h1 : k0_cond1 i = 1#1), ∀ a, (k0_off252 v1947) a + S1x128.size a ≤ S8192x128.size a := fun i v1947 k0_hw126 k0_h1 => k0_hw126.2.2 k0_h1

def k0_mult127 (v1962 : BitVec 32) : BitVec 32 :=
  let c3_i32_1047 : BitVec 32 := 3#32
  let v1963 : BitVec 32 := Scalar.shrsi v1962 c3_i32_1047
  let c8191_i32_1048 : BitVec 32 := 8191#32
  let v1964 : BitVec 32 := Scalar.andi v1963 c8191_i32_1048
  let c8_i32_1049 : BitVec 32 := 8#32
  let v1965 : BitVec 32 := Scalar.muli v1964 c8_i32_1049
  v1965

def k0_off253 (v1962 : BitVec 32) : Fin 2 → Nat :=
  let c3_i32_1047 : BitVec 32 := 3#32
  let v1963 : BitVec 32 := Scalar.shrsi v1962 c3_i32_1047
  let c8191_i32_1048 : BitVec 32 := 8191#32
  let v1964 : BitVec 32 := Scalar.andi v1963 c8191_i32_1048
  let c8_i32_1049 : BitVec 32 := 8#32
  let v1965 : BitVec 32 := Scalar.muli v1964 c8_i32_1049
  let v1966 : BitVec 32 := v1965
  let v1967 : Index := Scalar.indexCast v1966
  let c0_1050 : Index := 0#32
  ![v1967.toNat, 0]
def k0_off254 (v1962 : BitVec 32) : Fin 2 → Nat :=
  let c3_i32_1047 : BitVec 32 := 3#32
  let v1963 : BitVec 32 := Scalar.shrsi v1962 c3_i32_1047
  let c8191_i32_1048 : BitVec 32 := 8191#32
  let v1964 : BitVec 32 := Scalar.andi v1963 c8191_i32_1048
  let v1972 : Index := Scalar.indexCast v1964
  let c0_1052 : Index := 0#32
  ![v1972.toNat, 0]

def k0_chk127 (i : grid0.Coords) (v1962 : BitVec 32) : Prop :=
  (∀ (k0_h1 : k0_cond1 i = 1#1), 8 ∣ (k0_mult127 v1962).toNat) ∧
  (∀ (k0_h1 : k0_cond1 i = 1#1), ∀ a, (k0_off253 v1962) a + S8x128.size a ≤ S65536x128.size a) ∧
  (∀ (k0_h1 : k0_cond1 i = 1#1), ∀ a, (k0_off254 v1962) a + S1x128.size a ≤ S8192x128.size a)
theorem k0_mult127_dvd : ∀ (i : grid0.Coords) (v1962 : BitVec 32) (k0_hw127 : k0_chk127 i v1962), ∀ (k0_h1 : k0_cond1 i = 1#1), 8 ∣ (k0_mult127 v1962).toNat := fun i v1962 k0_hw127 k0_h1 => k0_hw127.1 k0_h1
theorem k0_off253_inb : ∀ (i : grid0.Coords) (v1962 : BitVec 32) (k0_hw127 : k0_chk127 i v1962), ∀ (k0_h1 : k0_cond1 i = 1#1), ∀ a, (k0_off253 v1962) a + S8x128.size a ≤ S65536x128.size a := fun i v1962 k0_hw127 k0_h1 => k0_hw127.2.1 k0_h1
theorem k0_off254_inb : ∀ (i : grid0.Coords) (v1962 : BitVec 32) (k0_hw127 : k0_chk127 i v1962), ∀ (k0_h1 : k0_cond1 i = 1#1), ∀ a, (k0_off254 v1962) a + S1x128.size a ≤ S8192x128.size a := fun i v1962 k0_hw127 k0_h1 => k0_hw127.2.2 k0_h1

def k0_mult128 (v1977 : BitVec 32) : BitVec 32 :=
  let c3_i32_1055 : BitVec 32 := 3#32
  let v1978 : BitVec 32 := Scalar.shrsi v1977 c3_i32_1055
  let c8191_i32_1056 : BitVec 32 := 8191#32
  let v1979 : BitVec 32 := Scalar.andi v1978 c8191_i32_1056
  let c8_i32_1057 : BitVec 32 := 8#32
  let v1980 : BitVec 32 := Scalar.muli v1979 c8_i32_1057
  v1980

def k0_off255 (v1977 : BitVec 32) : Fin 2 → Nat :=
  let c3_i32_1055 : BitVec 32 := 3#32
  let v1978 : BitVec 32 := Scalar.shrsi v1977 c3_i32_1055
  let c8191_i32_1056 : BitVec 32 := 8191#32
  let v1979 : BitVec 32 := Scalar.andi v1978 c8191_i32_1056
  let c8_i32_1057 : BitVec 32 := 8#32
  let v1980 : BitVec 32 := Scalar.muli v1979 c8_i32_1057
  let v1981 : BitVec 32 := v1980
  let v1982 : Index := Scalar.indexCast v1981
  let c0_1058 : Index := 0#32
  ![v1982.toNat, 0]
def k0_off256 (v1977 : BitVec 32) : Fin 2 → Nat :=
  let c3_i32_1055 : BitVec 32 := 3#32
  let v1978 : BitVec 32 := Scalar.shrsi v1977 c3_i32_1055
  let c8191_i32_1056 : BitVec 32 := 8191#32
  let v1979 : BitVec 32 := Scalar.andi v1978 c8191_i32_1056
  let v1987 : Index := Scalar.indexCast v1979
  let c0_1060 : Index := 0#32
  ![v1987.toNat, 0]

def k0_chk128 (i : grid0.Coords) (v1977 : BitVec 32) : Prop :=
  (∀ (k0_h1 : k0_cond1 i = 1#1), 8 ∣ (k0_mult128 v1977).toNat) ∧
  (∀ (k0_h1 : k0_cond1 i = 1#1), ∀ a, (k0_off255 v1977) a + S8x128.size a ≤ S65536x128.size a) ∧
  (∀ (k0_h1 : k0_cond1 i = 1#1), ∀ a, (k0_off256 v1977) a + S1x128.size a ≤ S8192x128.size a)
theorem k0_mult128_dvd : ∀ (i : grid0.Coords) (v1977 : BitVec 32) (k0_hw128 : k0_chk128 i v1977), ∀ (k0_h1 : k0_cond1 i = 1#1), 8 ∣ (k0_mult128 v1977).toNat := fun i v1977 k0_hw128 k0_h1 => k0_hw128.1 k0_h1
theorem k0_off255_inb : ∀ (i : grid0.Coords) (v1977 : BitVec 32) (k0_hw128 : k0_chk128 i v1977), ∀ (k0_h1 : k0_cond1 i = 1#1), ∀ a, (k0_off255 v1977) a + S8x128.size a ≤ S65536x128.size a := fun i v1977 k0_hw128 k0_h1 => k0_hw128.2.1 k0_h1
theorem k0_off256_inb : ∀ (i : grid0.Coords) (v1977 : BitVec 32) (k0_hw128 : k0_chk128 i v1977), ∀ (k0_h1 : k0_cond1 i = 1#1), ∀ a, (k0_off256 v1977) a + S1x128.size a ≤ S8192x128.size a := fun i v1977 k0_hw128 k0_h1 => k0_hw128.2.2 k0_h1

def k0_mult129 (v1992 : BitVec 32) : BitVec 32 :=
  let c3_i32_1064 : BitVec 32 := 3#32
  let v1993 : BitVec 32 := Scalar.shrsi v1992 c3_i32_1064
  let c8191_i32_1065 : BitVec 32 := 8191#32
  let v1994 : BitVec 32 := Scalar.andi v1993 c8191_i32_1065
  let c8_i32_1066 : BitVec 32 := 8#32
  let v1995 : BitVec 32 := Scalar.muli v1994 c8_i32_1066
  v1995

def k0_off257 (v1992 : BitVec 32) : Fin 2 → Nat :=
  let c3_i32_1064 : BitVec 32 := 3#32
  let v1993 : BitVec 32 := Scalar.shrsi v1992 c3_i32_1064
  let c8191_i32_1065 : BitVec 32 := 8191#32
  let v1994 : BitVec 32 := Scalar.andi v1993 c8191_i32_1065
  let c8_i32_1066 : BitVec 32 := 8#32
  let v1995 : BitVec 32 := Scalar.muli v1994 c8_i32_1066
  let v1996 : BitVec 32 := v1995
  let v1997 : Index := Scalar.indexCast v1996
  let c0_1067 : Index := 0#32
  ![v1997.toNat, 0]
def k0_off258 (v1992 : BitVec 32) : Fin 2 → Nat :=
  let c3_i32_1064 : BitVec 32 := 3#32
  let v1993 : BitVec 32 := Scalar.shrsi v1992 c3_i32_1064
  let c8191_i32_1065 : BitVec 32 := 8191#32
  let v1994 : BitVec 32 := Scalar.andi v1993 c8191_i32_1065
  let v2002 : Index := Scalar.indexCast v1994
  let c0_1069 : Index := 0#32
  ![v2002.toNat, 0]

def k0_chk129 (i : grid0.Coords) (v1992 : BitVec 32) : Prop :=
  (∀ (k0_h1 : k0_cond1 i = 1#1), 8 ∣ (k0_mult129 v1992).toNat) ∧
  (∀ (k0_h1 : k0_cond1 i = 1#1), ∀ a, (k0_off257 v1992) a + S8x128.size a ≤ S65536x128.size a) ∧
  (∀ (k0_h1 : k0_cond1 i = 1#1), ∀ a, (k0_off258 v1992) a + S1x128.size a ≤ S8192x128.size a)
theorem k0_mult129_dvd : ∀ (i : grid0.Coords) (v1992 : BitVec 32) (k0_hw129 : k0_chk129 i v1992), ∀ (k0_h1 : k0_cond1 i = 1#1), 8 ∣ (k0_mult129 v1992).toNat := fun i v1992 k0_hw129 k0_h1 => k0_hw129.1 k0_h1
theorem k0_off257_inb : ∀ (i : grid0.Coords) (v1992 : BitVec 32) (k0_hw129 : k0_chk129 i v1992), ∀ (k0_h1 : k0_cond1 i = 1#1), ∀ a, (k0_off257 v1992) a + S8x128.size a ≤ S65536x128.size a := fun i v1992 k0_hw129 k0_h1 => k0_hw129.2.1 k0_h1
theorem k0_off258_inb : ∀ (i : grid0.Coords) (v1992 : BitVec 32) (k0_hw129 : k0_chk129 i v1992), ∀ (k0_h1 : k0_cond1 i = 1#1), ∀ a, (k0_off258 v1992) a + S1x128.size a ≤ S8192x128.size a := fun i v1992 k0_hw129 k0_h1 => k0_hw129.2.2 k0_h1

def k0_mult130 (v2007 : BitVec 32) : BitVec 32 :=
  let c3_i32_1072 : BitVec 32 := 3#32
  let v2008 : BitVec 32 := Scalar.shrsi v2007 c3_i32_1072
  let c8191_i32_1073 : BitVec 32 := 8191#32
  let v2009 : BitVec 32 := Scalar.andi v2008 c8191_i32_1073
  let c8_i32_1074 : BitVec 32 := 8#32
  let v2010 : BitVec 32 := Scalar.muli v2009 c8_i32_1074
  v2010

def k0_off259 (v2007 : BitVec 32) : Fin 2 → Nat :=
  let c3_i32_1072 : BitVec 32 := 3#32
  let v2008 : BitVec 32 := Scalar.shrsi v2007 c3_i32_1072
  let c8191_i32_1073 : BitVec 32 := 8191#32
  let v2009 : BitVec 32 := Scalar.andi v2008 c8191_i32_1073
  let c8_i32_1074 : BitVec 32 := 8#32
  let v2010 : BitVec 32 := Scalar.muli v2009 c8_i32_1074
  let v2011 : BitVec 32 := v2010
  let v2012 : Index := Scalar.indexCast v2011
  let c0_1075 : Index := 0#32
  ![v2012.toNat, 0]
def k0_off260 (v2007 : BitVec 32) : Fin 2 → Nat :=
  let c3_i32_1072 : BitVec 32 := 3#32
  let v2008 : BitVec 32 := Scalar.shrsi v2007 c3_i32_1072
  let c8191_i32_1073 : BitVec 32 := 8191#32
  let v2009 : BitVec 32 := Scalar.andi v2008 c8191_i32_1073
  let v2017 : Index := Scalar.indexCast v2009
  let c0_1077 : Index := 0#32
  ![v2017.toNat, 0]

def k0_chk130 (i : grid0.Coords) (v2007 : BitVec 32) : Prop :=
  (∀ (k0_h1 : k0_cond1 i = 1#1), 8 ∣ (k0_mult130 v2007).toNat) ∧
  (∀ (k0_h1 : k0_cond1 i = 1#1), ∀ a, (k0_off259 v2007) a + S8x128.size a ≤ S65536x128.size a) ∧
  (∀ (k0_h1 : k0_cond1 i = 1#1), ∀ a, (k0_off260 v2007) a + S1x128.size a ≤ S8192x128.size a)
theorem k0_mult130_dvd : ∀ (i : grid0.Coords) (v2007 : BitVec 32) (k0_hw130 : k0_chk130 i v2007), ∀ (k0_h1 : k0_cond1 i = 1#1), 8 ∣ (k0_mult130 v2007).toNat := fun i v2007 k0_hw130 k0_h1 => k0_hw130.1 k0_h1
theorem k0_off259_inb : ∀ (i : grid0.Coords) (v2007 : BitVec 32) (k0_hw130 : k0_chk130 i v2007), ∀ (k0_h1 : k0_cond1 i = 1#1), ∀ a, (k0_off259 v2007) a + S8x128.size a ≤ S65536x128.size a := fun i v2007 k0_hw130 k0_h1 => k0_hw130.2.1 k0_h1
theorem k0_off260_inb : ∀ (i : grid0.Coords) (v2007 : BitVec 32) (k0_hw130 : k0_chk130 i v2007), ∀ (k0_h1 : k0_cond1 i = 1#1), ∀ a, (k0_off260 v2007) a + S1x128.size a ≤ S8192x128.size a := fun i v2007 k0_hw130 k0_h1 => k0_hw130.2.2 k0_h1

def k0_mult131 (v2022 : BitVec 32) : BitVec 32 :=
  let c3_i32_1080 : BitVec 32 := 3#32
  let v2023 : BitVec 32 := Scalar.shrsi v2022 c3_i32_1080
  let c8191_i32_1081 : BitVec 32 := 8191#32
  let v2024 : BitVec 32 := Scalar.andi v2023 c8191_i32_1081
  let c8_i32_1082 : BitVec 32 := 8#32
  let v2025 : BitVec 32 := Scalar.muli v2024 c8_i32_1082
  v2025

def k0_off261 (v2022 : BitVec 32) : Fin 2 → Nat :=
  let c3_i32_1080 : BitVec 32 := 3#32
  let v2023 : BitVec 32 := Scalar.shrsi v2022 c3_i32_1080
  let c8191_i32_1081 : BitVec 32 := 8191#32
  let v2024 : BitVec 32 := Scalar.andi v2023 c8191_i32_1081
  let c8_i32_1082 : BitVec 32 := 8#32
  let v2025 : BitVec 32 := Scalar.muli v2024 c8_i32_1082
  let v2026 : BitVec 32 := v2025
  let v2027 : Index := Scalar.indexCast v2026
  let c0_1083 : Index := 0#32
  ![v2027.toNat, 0]
def k0_off262 (v2022 : BitVec 32) : Fin 2 → Nat :=
  let c3_i32_1080 : BitVec 32 := 3#32
  let v2023 : BitVec 32 := Scalar.shrsi v2022 c3_i32_1080
  let c8191_i32_1081 : BitVec 32 := 8191#32
  let v2024 : BitVec 32 := Scalar.andi v2023 c8191_i32_1081
  let v2032 : Index := Scalar.indexCast v2024
  let c0_1085 : Index := 0#32
  ![v2032.toNat, 0]

def k0_chk131 (i : grid0.Coords) (v2022 : BitVec 32) : Prop :=
  (∀ (k0_h1 : k0_cond1 i = 1#1), 8 ∣ (k0_mult131 v2022).toNat) ∧
  (∀ (k0_h1 : k0_cond1 i = 1#1), ∀ a, (k0_off261 v2022) a + S8x128.size a ≤ S65536x128.size a) ∧
  (∀ (k0_h1 : k0_cond1 i = 1#1), ∀ a, (k0_off262 v2022) a + S1x128.size a ≤ S8192x128.size a)
theorem k0_mult131_dvd : ∀ (i : grid0.Coords) (v2022 : BitVec 32) (k0_hw131 : k0_chk131 i v2022), ∀ (k0_h1 : k0_cond1 i = 1#1), 8 ∣ (k0_mult131 v2022).toNat := fun i v2022 k0_hw131 k0_h1 => k0_hw131.1 k0_h1
theorem k0_off261_inb : ∀ (i : grid0.Coords) (v2022 : BitVec 32) (k0_hw131 : k0_chk131 i v2022), ∀ (k0_h1 : k0_cond1 i = 1#1), ∀ a, (k0_off261 v2022) a + S8x128.size a ≤ S65536x128.size a := fun i v2022 k0_hw131 k0_h1 => k0_hw131.2.1 k0_h1
theorem k0_off262_inb : ∀ (i : grid0.Coords) (v2022 : BitVec 32) (k0_hw131 : k0_chk131 i v2022), ∀ (k0_h1 : k0_cond1 i = 1#1), ∀ a, (k0_off262 v2022) a + S1x128.size a ≤ S8192x128.size a := fun i v2022 k0_hw131 k0_h1 => k0_hw131.2.2 k0_h1

def k0_mult132 (v2037 : BitVec 32) : BitVec 32 :=
  let c3_i32_1088 : BitVec 32 := 3#32
  let v2038 : BitVec 32 := Scalar.shrsi v2037 c3_i32_1088
  let c8191_i32_1089 : BitVec 32 := 8191#32
  let v2039 : BitVec 32 := Scalar.andi v2038 c8191_i32_1089
  let c8_i32_1090 : BitVec 32 := 8#32
  let v2040 : BitVec 32 := Scalar.muli v2039 c8_i32_1090
  v2040

def k0_off263 (v2037 : BitVec 32) : Fin 2 → Nat :=
  let c3_i32_1088 : BitVec 32 := 3#32
  let v2038 : BitVec 32 := Scalar.shrsi v2037 c3_i32_1088
  let c8191_i32_1089 : BitVec 32 := 8191#32
  let v2039 : BitVec 32 := Scalar.andi v2038 c8191_i32_1089
  let c8_i32_1090 : BitVec 32 := 8#32
  let v2040 : BitVec 32 := Scalar.muli v2039 c8_i32_1090
  let v2041 : BitVec 32 := v2040
  let v2042 : Index := Scalar.indexCast v2041
  let c0_1091 : Index := 0#32
  ![v2042.toNat, 0]
def k0_off264 (v2037 : BitVec 32) : Fin 2 → Nat :=
  let c3_i32_1088 : BitVec 32 := 3#32
  let v2038 : BitVec 32 := Scalar.shrsi v2037 c3_i32_1088
  let c8191_i32_1089 : BitVec 32 := 8191#32
  let v2039 : BitVec 32 := Scalar.andi v2038 c8191_i32_1089
  let v2047 : Index := Scalar.indexCast v2039
  let c0_1093 : Index := 0#32
  ![v2047.toNat, 0]

def k0_chk132 (i : grid0.Coords) (v2037 : BitVec 32) : Prop :=
  (∀ (k0_h1 : k0_cond1 i = 1#1), 8 ∣ (k0_mult132 v2037).toNat) ∧
  (∀ (k0_h1 : k0_cond1 i = 1#1), ∀ a, (k0_off263 v2037) a + S8x128.size a ≤ S65536x128.size a) ∧
  (∀ (k0_h1 : k0_cond1 i = 1#1), ∀ a, (k0_off264 v2037) a + S1x128.size a ≤ S8192x128.size a)
theorem k0_mult132_dvd : ∀ (i : grid0.Coords) (v2037 : BitVec 32) (k0_hw132 : k0_chk132 i v2037), ∀ (k0_h1 : k0_cond1 i = 1#1), 8 ∣ (k0_mult132 v2037).toNat := fun i v2037 k0_hw132 k0_h1 => k0_hw132.1 k0_h1
theorem k0_off263_inb : ∀ (i : grid0.Coords) (v2037 : BitVec 32) (k0_hw132 : k0_chk132 i v2037), ∀ (k0_h1 : k0_cond1 i = 1#1), ∀ a, (k0_off263 v2037) a + S8x128.size a ≤ S65536x128.size a := fun i v2037 k0_hw132 k0_h1 => k0_hw132.2.1 k0_h1
theorem k0_off264_inb : ∀ (i : grid0.Coords) (v2037 : BitVec 32) (k0_hw132 : k0_chk132 i v2037), ∀ (k0_h1 : k0_cond1 i = 1#1), ∀ a, (k0_off264 v2037) a + S1x128.size a ≤ S8192x128.size a := fun i v2037 k0_hw132 k0_h1 => k0_hw132.2.2 k0_h1

def k0_mult133 (v2052 : BitVec 32) : BitVec 32 :=
  let c3_i32_1096 : BitVec 32 := 3#32
  let v2053 : BitVec 32 := Scalar.shrsi v2052 c3_i32_1096
  let c8191_i32_1097 : BitVec 32 := 8191#32
  let v2054 : BitVec 32 := Scalar.andi v2053 c8191_i32_1097
  let c8_i32_1098 : BitVec 32 := 8#32
  let v2055 : BitVec 32 := Scalar.muli v2054 c8_i32_1098
  v2055

def k0_off265 (v2052 : BitVec 32) : Fin 2 → Nat :=
  let c3_i32_1096 : BitVec 32 := 3#32
  let v2053 : BitVec 32 := Scalar.shrsi v2052 c3_i32_1096
  let c8191_i32_1097 : BitVec 32 := 8191#32
  let v2054 : BitVec 32 := Scalar.andi v2053 c8191_i32_1097
  let c8_i32_1098 : BitVec 32 := 8#32
  let v2055 : BitVec 32 := Scalar.muli v2054 c8_i32_1098
  let v2056 : BitVec 32 := v2055
  let v2057 : Index := Scalar.indexCast v2056
  let c0_1099 : Index := 0#32
  ![v2057.toNat, 0]
def k0_off266 (v2052 : BitVec 32) : Fin 2 → Nat :=
  let c3_i32_1096 : BitVec 32 := 3#32
  let v2053 : BitVec 32 := Scalar.shrsi v2052 c3_i32_1096
  let c8191_i32_1097 : BitVec 32 := 8191#32
  let v2054 : BitVec 32 := Scalar.andi v2053 c8191_i32_1097
  let v2062 : Index := Scalar.indexCast v2054
  let c0_1101 : Index := 0#32
  ![v2062.toNat, 0]

def k0_chk133 (i : grid0.Coords) (v2052 : BitVec 32) : Prop :=
  (∀ (k0_h1 : k0_cond1 i = 1#1), 8 ∣ (k0_mult133 v2052).toNat) ∧
  (∀ (k0_h1 : k0_cond1 i = 1#1), ∀ a, (k0_off265 v2052) a + S8x128.size a ≤ S65536x128.size a) ∧
  (∀ (k0_h1 : k0_cond1 i = 1#1), ∀ a, (k0_off266 v2052) a + S1x128.size a ≤ S8192x128.size a)
theorem k0_mult133_dvd : ∀ (i : grid0.Coords) (v2052 : BitVec 32) (k0_hw133 : k0_chk133 i v2052), ∀ (k0_h1 : k0_cond1 i = 1#1), 8 ∣ (k0_mult133 v2052).toNat := fun i v2052 k0_hw133 k0_h1 => k0_hw133.1 k0_h1
theorem k0_off265_inb : ∀ (i : grid0.Coords) (v2052 : BitVec 32) (k0_hw133 : k0_chk133 i v2052), ∀ (k0_h1 : k0_cond1 i = 1#1), ∀ a, (k0_off265 v2052) a + S8x128.size a ≤ S65536x128.size a := fun i v2052 k0_hw133 k0_h1 => k0_hw133.2.1 k0_h1
theorem k0_off266_inb : ∀ (i : grid0.Coords) (v2052 : BitVec 32) (k0_hw133 : k0_chk133 i v2052), ∀ (k0_h1 : k0_cond1 i = 1#1), ∀ a, (k0_off266 v2052) a + S1x128.size a ≤ S8192x128.size a := fun i v2052 k0_hw133 k0_h1 => k0_hw133.2.2 k0_h1

def k0_mult134 (v2067 : BitVec 32) : BitVec 32 :=
  let c3_i32_1104 : BitVec 32 := 3#32
  let v2068 : BitVec 32 := Scalar.shrsi v2067 c3_i32_1104
  let c8191_i32_1105 : BitVec 32 := 8191#32
  let v2069 : BitVec 32 := Scalar.andi v2068 c8191_i32_1105
  let c8_i32_1106 : BitVec 32 := 8#32
  let v2070 : BitVec 32 := Scalar.muli v2069 c8_i32_1106
  v2070

def k0_off267 (v2067 : BitVec 32) : Fin 2 → Nat :=
  let c3_i32_1104 : BitVec 32 := 3#32
  let v2068 : BitVec 32 := Scalar.shrsi v2067 c3_i32_1104
  let c8191_i32_1105 : BitVec 32 := 8191#32
  let v2069 : BitVec 32 := Scalar.andi v2068 c8191_i32_1105
  let c8_i32_1106 : BitVec 32 := 8#32
  let v2070 : BitVec 32 := Scalar.muli v2069 c8_i32_1106
  let v2071 : BitVec 32 := v2070
  let v2072 : Index := Scalar.indexCast v2071
  let c0_1107 : Index := 0#32
  ![v2072.toNat, 0]
def k0_off268 (v2067 : BitVec 32) : Fin 2 → Nat :=
  let c3_i32_1104 : BitVec 32 := 3#32
  let v2068 : BitVec 32 := Scalar.shrsi v2067 c3_i32_1104
  let c8191_i32_1105 : BitVec 32 := 8191#32
  let v2069 : BitVec 32 := Scalar.andi v2068 c8191_i32_1105
  let v2077 : Index := Scalar.indexCast v2069
  let c0_1109 : Index := 0#32
  ![v2077.toNat, 0]

def k0_chk134 (i : grid0.Coords) (v2067 : BitVec 32) : Prop :=
  (∀ (k0_h1 : k0_cond1 i = 1#1), 8 ∣ (k0_mult134 v2067).toNat) ∧
  (∀ (k0_h1 : k0_cond1 i = 1#1), ∀ a, (k0_off267 v2067) a + S8x128.size a ≤ S65536x128.size a) ∧
  (∀ (k0_h1 : k0_cond1 i = 1#1), ∀ a, (k0_off268 v2067) a + S1x128.size a ≤ S8192x128.size a)
theorem k0_mult134_dvd : ∀ (i : grid0.Coords) (v2067 : BitVec 32) (k0_hw134 : k0_chk134 i v2067), ∀ (k0_h1 : k0_cond1 i = 1#1), 8 ∣ (k0_mult134 v2067).toNat := fun i v2067 k0_hw134 k0_h1 => k0_hw134.1 k0_h1
theorem k0_off267_inb : ∀ (i : grid0.Coords) (v2067 : BitVec 32) (k0_hw134 : k0_chk134 i v2067), ∀ (k0_h1 : k0_cond1 i = 1#1), ∀ a, (k0_off267 v2067) a + S8x128.size a ≤ S65536x128.size a := fun i v2067 k0_hw134 k0_h1 => k0_hw134.2.1 k0_h1
theorem k0_off268_inb : ∀ (i : grid0.Coords) (v2067 : BitVec 32) (k0_hw134 : k0_chk134 i v2067), ∀ (k0_h1 : k0_cond1 i = 1#1), ∀ a, (k0_off268 v2067) a + S1x128.size a ≤ S8192x128.size a := fun i v2067 k0_hw134 k0_h1 => k0_hw134.2.2 k0_h1

def k0_mult135 (v2082 : BitVec 32) : BitVec 32 :=
  let c3_i32_1112 : BitVec 32 := 3#32
  let v2083 : BitVec 32 := Scalar.shrsi v2082 c3_i32_1112
  let c8191_i32_1113 : BitVec 32 := 8191#32
  let v2084 : BitVec 32 := Scalar.andi v2083 c8191_i32_1113
  let c8_i32_1114 : BitVec 32 := 8#32
  let v2085 : BitVec 32 := Scalar.muli v2084 c8_i32_1114
  v2085

def k0_off269 (v2082 : BitVec 32) : Fin 2 → Nat :=
  let c3_i32_1112 : BitVec 32 := 3#32
  let v2083 : BitVec 32 := Scalar.shrsi v2082 c3_i32_1112
  let c8191_i32_1113 : BitVec 32 := 8191#32
  let v2084 : BitVec 32 := Scalar.andi v2083 c8191_i32_1113
  let c8_i32_1114 : BitVec 32 := 8#32
  let v2085 : BitVec 32 := Scalar.muli v2084 c8_i32_1114
  let v2086 : BitVec 32 := v2085
  let v2087 : Index := Scalar.indexCast v2086
  let c0_1115 : Index := 0#32
  ![v2087.toNat, 0]
def k0_off270 (v2082 : BitVec 32) : Fin 2 → Nat :=
  let c3_i32_1112 : BitVec 32 := 3#32
  let v2083 : BitVec 32 := Scalar.shrsi v2082 c3_i32_1112
  let c8191_i32_1113 : BitVec 32 := 8191#32
  let v2084 : BitVec 32 := Scalar.andi v2083 c8191_i32_1113
  let v2092 : Index := Scalar.indexCast v2084
  let c0_1117 : Index := 0#32
  ![v2092.toNat, 0]

def k0_chk135 (i : grid0.Coords) (v2082 : BitVec 32) : Prop :=
  (∀ (k0_h1 : k0_cond1 i = 1#1), 8 ∣ (k0_mult135 v2082).toNat) ∧
  (∀ (k0_h1 : k0_cond1 i = 1#1), ∀ a, (k0_off269 v2082) a + S8x128.size a ≤ S65536x128.size a) ∧
  (∀ (k0_h1 : k0_cond1 i = 1#1), ∀ a, (k0_off270 v2082) a + S1x128.size a ≤ S8192x128.size a)
theorem k0_mult135_dvd : ∀ (i : grid0.Coords) (v2082 : BitVec 32) (k0_hw135 : k0_chk135 i v2082), ∀ (k0_h1 : k0_cond1 i = 1#1), 8 ∣ (k0_mult135 v2082).toNat := fun i v2082 k0_hw135 k0_h1 => k0_hw135.1 k0_h1
theorem k0_off269_inb : ∀ (i : grid0.Coords) (v2082 : BitVec 32) (k0_hw135 : k0_chk135 i v2082), ∀ (k0_h1 : k0_cond1 i = 1#1), ∀ a, (k0_off269 v2082) a + S8x128.size a ≤ S65536x128.size a := fun i v2082 k0_hw135 k0_h1 => k0_hw135.2.1 k0_h1
theorem k0_off270_inb : ∀ (i : grid0.Coords) (v2082 : BitVec 32) (k0_hw135 : k0_chk135 i v2082), ∀ (k0_h1 : k0_cond1 i = 1#1), ∀ a, (k0_off270 v2082) a + S1x128.size a ≤ S8192x128.size a := fun i v2082 k0_hw135 k0_h1 => k0_hw135.2.2 k0_h1

def k0_mult136 (v2097 : BitVec 32) : BitVec 32 :=
  let c3_i32_1120 : BitVec 32 := 3#32
  let v2098 : BitVec 32 := Scalar.shrsi v2097 c3_i32_1120
  let c8191_i32_1121 : BitVec 32 := 8191#32
  let v2099 : BitVec 32 := Scalar.andi v2098 c8191_i32_1121
  let c8_i32_1122 : BitVec 32 := 8#32
  let v2100 : BitVec 32 := Scalar.muli v2099 c8_i32_1122
  v2100

def k0_off271 (v2097 : BitVec 32) : Fin 2 → Nat :=
  let c3_i32_1120 : BitVec 32 := 3#32
  let v2098 : BitVec 32 := Scalar.shrsi v2097 c3_i32_1120
  let c8191_i32_1121 : BitVec 32 := 8191#32
  let v2099 : BitVec 32 := Scalar.andi v2098 c8191_i32_1121
  let c8_i32_1122 : BitVec 32 := 8#32
  let v2100 : BitVec 32 := Scalar.muli v2099 c8_i32_1122
  let v2101 : BitVec 32 := v2100
  let v2102 : Index := Scalar.indexCast v2101
  let c0_1123 : Index := 0#32
  ![v2102.toNat, 0]
def k0_off272 (v2097 : BitVec 32) : Fin 2 → Nat :=
  let c3_i32_1120 : BitVec 32 := 3#32
  let v2098 : BitVec 32 := Scalar.shrsi v2097 c3_i32_1120
  let c8191_i32_1121 : BitVec 32 := 8191#32
  let v2099 : BitVec 32 := Scalar.andi v2098 c8191_i32_1121
  let v2107 : Index := Scalar.indexCast v2099
  let c0_1125 : Index := 0#32
  ![v2107.toNat, 0]

def k0_chk136 (i : grid0.Coords) (v2097 : BitVec 32) : Prop :=
  (∀ (k0_h1 : k0_cond1 i = 1#1), 8 ∣ (k0_mult136 v2097).toNat) ∧
  (∀ (k0_h1 : k0_cond1 i = 1#1), ∀ a, (k0_off271 v2097) a + S8x128.size a ≤ S65536x128.size a) ∧
  (∀ (k0_h1 : k0_cond1 i = 1#1), ∀ a, (k0_off272 v2097) a + S1x128.size a ≤ S8192x128.size a)
theorem k0_mult136_dvd : ∀ (i : grid0.Coords) (v2097 : BitVec 32) (k0_hw136 : k0_chk136 i v2097), ∀ (k0_h1 : k0_cond1 i = 1#1), 8 ∣ (k0_mult136 v2097).toNat := fun i v2097 k0_hw136 k0_h1 => k0_hw136.1 k0_h1
theorem k0_off271_inb : ∀ (i : grid0.Coords) (v2097 : BitVec 32) (k0_hw136 : k0_chk136 i v2097), ∀ (k0_h1 : k0_cond1 i = 1#1), ∀ a, (k0_off271 v2097) a + S8x128.size a ≤ S65536x128.size a := fun i v2097 k0_hw136 k0_h1 => k0_hw136.2.1 k0_h1
theorem k0_off272_inb : ∀ (i : grid0.Coords) (v2097 : BitVec 32) (k0_hw136 : k0_chk136 i v2097), ∀ (k0_h1 : k0_cond1 i = 1#1), ∀ a, (k0_off272 v2097) a + S1x128.size a ≤ S8192x128.size a := fun i v2097 k0_hw136 k0_h1 => k0_hw136.2.2 k0_h1

def k0_mult137 (v2112 : BitVec 32) : BitVec 32 :=
  let c3_i32_1129 : BitVec 32 := 3#32
  let v2113 : BitVec 32 := Scalar.shrsi v2112 c3_i32_1129
  let c8191_i32_1130 : BitVec 32 := 8191#32
  let v2114 : BitVec 32 := Scalar.andi v2113 c8191_i32_1130
  let c8_i32_1131 : BitVec 32 := 8#32
  let v2115 : BitVec 32 := Scalar.muli v2114 c8_i32_1131
  v2115

def k0_off273 (v2112 : BitVec 32) : Fin 2 → Nat :=
  let c3_i32_1129 : BitVec 32 := 3#32
  let v2113 : BitVec 32 := Scalar.shrsi v2112 c3_i32_1129
  let c8191_i32_1130 : BitVec 32 := 8191#32
  let v2114 : BitVec 32 := Scalar.andi v2113 c8191_i32_1130
  let c8_i32_1131 : BitVec 32 := 8#32
  let v2115 : BitVec 32 := Scalar.muli v2114 c8_i32_1131
  let v2116 : BitVec 32 := v2115
  let v2117 : Index := Scalar.indexCast v2116
  let c0_1132 : Index := 0#32
  ![v2117.toNat, 0]
def k0_off274 (v2112 : BitVec 32) : Fin 2 → Nat :=
  let c3_i32_1129 : BitVec 32 := 3#32
  let v2113 : BitVec 32 := Scalar.shrsi v2112 c3_i32_1129
  let c8191_i32_1130 : BitVec 32 := 8191#32
  let v2114 : BitVec 32 := Scalar.andi v2113 c8191_i32_1130
  let v2122 : Index := Scalar.indexCast v2114
  let c0_1134 : Index := 0#32
  ![v2122.toNat, 0]

def k0_chk137 (i : grid0.Coords) (v2112 : BitVec 32) : Prop :=
  (∀ (k0_h1 : k0_cond1 i = 1#1), 8 ∣ (k0_mult137 v2112).toNat) ∧
  (∀ (k0_h1 : k0_cond1 i = 1#1), ∀ a, (k0_off273 v2112) a + S8x128.size a ≤ S65536x128.size a) ∧
  (∀ (k0_h1 : k0_cond1 i = 1#1), ∀ a, (k0_off274 v2112) a + S1x128.size a ≤ S8192x128.size a)
theorem k0_mult137_dvd : ∀ (i : grid0.Coords) (v2112 : BitVec 32) (k0_hw137 : k0_chk137 i v2112), ∀ (k0_h1 : k0_cond1 i = 1#1), 8 ∣ (k0_mult137 v2112).toNat := fun i v2112 k0_hw137 k0_h1 => k0_hw137.1 k0_h1
theorem k0_off273_inb : ∀ (i : grid0.Coords) (v2112 : BitVec 32) (k0_hw137 : k0_chk137 i v2112), ∀ (k0_h1 : k0_cond1 i = 1#1), ∀ a, (k0_off273 v2112) a + S8x128.size a ≤ S65536x128.size a := fun i v2112 k0_hw137 k0_h1 => k0_hw137.2.1 k0_h1
theorem k0_off274_inb : ∀ (i : grid0.Coords) (v2112 : BitVec 32) (k0_hw137 : k0_chk137 i v2112), ∀ (k0_h1 : k0_cond1 i = 1#1), ∀ a, (k0_off274 v2112) a + S1x128.size a ≤ S8192x128.size a := fun i v2112 k0_hw137 k0_h1 => k0_hw137.2.2 k0_h1

def k0_mult138 (v2127 : BitVec 32) : BitVec 32 :=
  let c3_i32_1137 : BitVec 32 := 3#32
  let v2128 : BitVec 32 := Scalar.shrsi v2127 c3_i32_1137
  let c8191_i32_1138 : BitVec 32 := 8191#32
  let v2129 : BitVec 32 := Scalar.andi v2128 c8191_i32_1138
  let c8_i32_1139 : BitVec 32 := 8#32
  let v2130 : BitVec 32 := Scalar.muli v2129 c8_i32_1139
  v2130

def k0_off275 (v2127 : BitVec 32) : Fin 2 → Nat :=
  let c3_i32_1137 : BitVec 32 := 3#32
  let v2128 : BitVec 32 := Scalar.shrsi v2127 c3_i32_1137
  let c8191_i32_1138 : BitVec 32 := 8191#32
  let v2129 : BitVec 32 := Scalar.andi v2128 c8191_i32_1138
  let c8_i32_1139 : BitVec 32 := 8#32
  let v2130 : BitVec 32 := Scalar.muli v2129 c8_i32_1139
  let v2131 : BitVec 32 := v2130
  let v2132 : Index := Scalar.indexCast v2131
  let c0_1140 : Index := 0#32
  ![v2132.toNat, 0]
def k0_off276 (v2127 : BitVec 32) : Fin 2 → Nat :=
  let c3_i32_1137 : BitVec 32 := 3#32
  let v2128 : BitVec 32 := Scalar.shrsi v2127 c3_i32_1137
  let c8191_i32_1138 : BitVec 32 := 8191#32
  let v2129 : BitVec 32 := Scalar.andi v2128 c8191_i32_1138
  let v2137 : Index := Scalar.indexCast v2129
  let c0_1142 : Index := 0#32
  ![v2137.toNat, 0]

def k0_chk138 (i : grid0.Coords) (v2127 : BitVec 32) : Prop :=
  (∀ (k0_h1 : k0_cond1 i = 1#1), 8 ∣ (k0_mult138 v2127).toNat) ∧
  (∀ (k0_h1 : k0_cond1 i = 1#1), ∀ a, (k0_off275 v2127) a + S8x128.size a ≤ S65536x128.size a) ∧
  (∀ (k0_h1 : k0_cond1 i = 1#1), ∀ a, (k0_off276 v2127) a + S1x128.size a ≤ S8192x128.size a)
theorem k0_mult138_dvd : ∀ (i : grid0.Coords) (v2127 : BitVec 32) (k0_hw138 : k0_chk138 i v2127), ∀ (k0_h1 : k0_cond1 i = 1#1), 8 ∣ (k0_mult138 v2127).toNat := fun i v2127 k0_hw138 k0_h1 => k0_hw138.1 k0_h1
theorem k0_off275_inb : ∀ (i : grid0.Coords) (v2127 : BitVec 32) (k0_hw138 : k0_chk138 i v2127), ∀ (k0_h1 : k0_cond1 i = 1#1), ∀ a, (k0_off275 v2127) a + S8x128.size a ≤ S65536x128.size a := fun i v2127 k0_hw138 k0_h1 => k0_hw138.2.1 k0_h1
theorem k0_off276_inb : ∀ (i : grid0.Coords) (v2127 : BitVec 32) (k0_hw138 : k0_chk138 i v2127), ∀ (k0_h1 : k0_cond1 i = 1#1), ∀ a, (k0_off276 v2127) a + S1x128.size a ≤ S8192x128.size a := fun i v2127 k0_hw138 k0_h1 => k0_hw138.2.2 k0_h1

def k0_mult139 (v2142 : BitVec 32) : BitVec 32 :=
  let c3_i32_1145 : BitVec 32 := 3#32
  let v2143 : BitVec 32 := Scalar.shrsi v2142 c3_i32_1145
  let c8191_i32_1146 : BitVec 32 := 8191#32
  let v2144 : BitVec 32 := Scalar.andi v2143 c8191_i32_1146
  let c8_i32_1147 : BitVec 32 := 8#32
  let v2145 : BitVec 32 := Scalar.muli v2144 c8_i32_1147
  v2145

def k0_off277 (v2142 : BitVec 32) : Fin 2 → Nat :=
  let c3_i32_1145 : BitVec 32 := 3#32
  let v2143 : BitVec 32 := Scalar.shrsi v2142 c3_i32_1145
  let c8191_i32_1146 : BitVec 32 := 8191#32
  let v2144 : BitVec 32 := Scalar.andi v2143 c8191_i32_1146
  let c8_i32_1147 : BitVec 32 := 8#32
  let v2145 : BitVec 32 := Scalar.muli v2144 c8_i32_1147
  let v2146 : BitVec 32 := v2145
  let v2147 : Index := Scalar.indexCast v2146
  let c0_1148 : Index := 0#32
  ![v2147.toNat, 0]
def k0_off278 (v2142 : BitVec 32) : Fin 2 → Nat :=
  let c3_i32_1145 : BitVec 32 := 3#32
  let v2143 : BitVec 32 := Scalar.shrsi v2142 c3_i32_1145
  let c8191_i32_1146 : BitVec 32 := 8191#32
  let v2144 : BitVec 32 := Scalar.andi v2143 c8191_i32_1146
  let v2152 : Index := Scalar.indexCast v2144
  let c0_1150 : Index := 0#32
  ![v2152.toNat, 0]

def k0_chk139 (i : grid0.Coords) (v2142 : BitVec 32) : Prop :=
  (∀ (k0_h1 : k0_cond1 i = 1#1), 8 ∣ (k0_mult139 v2142).toNat) ∧
  (∀ (k0_h1 : k0_cond1 i = 1#1), ∀ a, (k0_off277 v2142) a + S8x128.size a ≤ S65536x128.size a) ∧
  (∀ (k0_h1 : k0_cond1 i = 1#1), ∀ a, (k0_off278 v2142) a + S1x128.size a ≤ S8192x128.size a)
theorem k0_mult139_dvd : ∀ (i : grid0.Coords) (v2142 : BitVec 32) (k0_hw139 : k0_chk139 i v2142), ∀ (k0_h1 : k0_cond1 i = 1#1), 8 ∣ (k0_mult139 v2142).toNat := fun i v2142 k0_hw139 k0_h1 => k0_hw139.1 k0_h1
theorem k0_off277_inb : ∀ (i : grid0.Coords) (v2142 : BitVec 32) (k0_hw139 : k0_chk139 i v2142), ∀ (k0_h1 : k0_cond1 i = 1#1), ∀ a, (k0_off277 v2142) a + S8x128.size a ≤ S65536x128.size a := fun i v2142 k0_hw139 k0_h1 => k0_hw139.2.1 k0_h1
theorem k0_off278_inb : ∀ (i : grid0.Coords) (v2142 : BitVec 32) (k0_hw139 : k0_chk139 i v2142), ∀ (k0_h1 : k0_cond1 i = 1#1), ∀ a, (k0_off278 v2142) a + S1x128.size a ≤ S8192x128.size a := fun i v2142 k0_hw139 k0_h1 => k0_hw139.2.2 k0_h1

def k0_mult140 (v2157 : BitVec 32) : BitVec 32 :=
  let c3_i32_1153 : BitVec 32 := 3#32
  let v2158 : BitVec 32 := Scalar.shrsi v2157 c3_i32_1153
  let c8191_i32_1154 : BitVec 32 := 8191#32
  let v2159 : BitVec 32 := Scalar.andi v2158 c8191_i32_1154
  let c8_i32_1155 : BitVec 32 := 8#32
  let v2160 : BitVec 32 := Scalar.muli v2159 c8_i32_1155
  v2160

def k0_off279 (v2157 : BitVec 32) : Fin 2 → Nat :=
  let c3_i32_1153 : BitVec 32 := 3#32
  let v2158 : BitVec 32 := Scalar.shrsi v2157 c3_i32_1153
  let c8191_i32_1154 : BitVec 32 := 8191#32
  let v2159 : BitVec 32 := Scalar.andi v2158 c8191_i32_1154
  let c8_i32_1155 : BitVec 32 := 8#32
  let v2160 : BitVec 32 := Scalar.muli v2159 c8_i32_1155
  let v2161 : BitVec 32 := v2160
  let v2162 : Index := Scalar.indexCast v2161
  let c0_1156 : Index := 0#32
  ![v2162.toNat, 0]
def k0_off280 (v2157 : BitVec 32) : Fin 2 → Nat :=
  let c3_i32_1153 : BitVec 32 := 3#32
  let v2158 : BitVec 32 := Scalar.shrsi v2157 c3_i32_1153
  let c8191_i32_1154 : BitVec 32 := 8191#32
  let v2159 : BitVec 32 := Scalar.andi v2158 c8191_i32_1154
  let v2167 : Index := Scalar.indexCast v2159
  let c0_1158 : Index := 0#32
  ![v2167.toNat, 0]

def k0_chk140 (i : grid0.Coords) (v2157 : BitVec 32) : Prop :=
  (∀ (k0_h1 : k0_cond1 i = 1#1), 8 ∣ (k0_mult140 v2157).toNat) ∧
  (∀ (k0_h1 : k0_cond1 i = 1#1), ∀ a, (k0_off279 v2157) a + S8x128.size a ≤ S65536x128.size a) ∧
  (∀ (k0_h1 : k0_cond1 i = 1#1), ∀ a, (k0_off280 v2157) a + S1x128.size a ≤ S8192x128.size a)
theorem k0_mult140_dvd : ∀ (i : grid0.Coords) (v2157 : BitVec 32) (k0_hw140 : k0_chk140 i v2157), ∀ (k0_h1 : k0_cond1 i = 1#1), 8 ∣ (k0_mult140 v2157).toNat := fun i v2157 k0_hw140 k0_h1 => k0_hw140.1 k0_h1
theorem k0_off279_inb : ∀ (i : grid0.Coords) (v2157 : BitVec 32) (k0_hw140 : k0_chk140 i v2157), ∀ (k0_h1 : k0_cond1 i = 1#1), ∀ a, (k0_off279 v2157) a + S8x128.size a ≤ S65536x128.size a := fun i v2157 k0_hw140 k0_h1 => k0_hw140.2.1 k0_h1
theorem k0_off280_inb : ∀ (i : grid0.Coords) (v2157 : BitVec 32) (k0_hw140 : k0_chk140 i v2157), ∀ (k0_h1 : k0_cond1 i = 1#1), ∀ a, (k0_off280 v2157) a + S1x128.size a ≤ S8192x128.size a := fun i v2157 k0_hw140 k0_h1 => k0_hw140.2.2 k0_h1

def k0_mult141 (v2172 : BitVec 32) : BitVec 32 :=
  let c3_i32_1161 : BitVec 32 := 3#32
  let v2173 : BitVec 32 := Scalar.shrsi v2172 c3_i32_1161
  let c8191_i32_1162 : BitVec 32 := 8191#32
  let v2174 : BitVec 32 := Scalar.andi v2173 c8191_i32_1162
  let c8_i32_1163 : BitVec 32 := 8#32
  let v2175 : BitVec 32 := Scalar.muli v2174 c8_i32_1163
  v2175

def k0_off281 (v2172 : BitVec 32) : Fin 2 → Nat :=
  let c3_i32_1161 : BitVec 32 := 3#32
  let v2173 : BitVec 32 := Scalar.shrsi v2172 c3_i32_1161
  let c8191_i32_1162 : BitVec 32 := 8191#32
  let v2174 : BitVec 32 := Scalar.andi v2173 c8191_i32_1162
  let c8_i32_1163 : BitVec 32 := 8#32
  let v2175 : BitVec 32 := Scalar.muli v2174 c8_i32_1163
  let v2176 : BitVec 32 := v2175
  let v2177 : Index := Scalar.indexCast v2176
  let c0_1164 : Index := 0#32
  ![v2177.toNat, 0]
def k0_off282 (v2172 : BitVec 32) : Fin 2 → Nat :=
  let c3_i32_1161 : BitVec 32 := 3#32
  let v2173 : BitVec 32 := Scalar.shrsi v2172 c3_i32_1161
  let c8191_i32_1162 : BitVec 32 := 8191#32
  let v2174 : BitVec 32 := Scalar.andi v2173 c8191_i32_1162
  let v2182 : Index := Scalar.indexCast v2174
  let c0_1166 : Index := 0#32
  ![v2182.toNat, 0]

def k0_chk141 (i : grid0.Coords) (v2172 : BitVec 32) : Prop :=
  (∀ (k0_h1 : k0_cond1 i = 1#1), 8 ∣ (k0_mult141 v2172).toNat) ∧
  (∀ (k0_h1 : k0_cond1 i = 1#1), ∀ a, (k0_off281 v2172) a + S8x128.size a ≤ S65536x128.size a) ∧
  (∀ (k0_h1 : k0_cond1 i = 1#1), ∀ a, (k0_off282 v2172) a + S1x128.size a ≤ S8192x128.size a)
theorem k0_mult141_dvd : ∀ (i : grid0.Coords) (v2172 : BitVec 32) (k0_hw141 : k0_chk141 i v2172), ∀ (k0_h1 : k0_cond1 i = 1#1), 8 ∣ (k0_mult141 v2172).toNat := fun i v2172 k0_hw141 k0_h1 => k0_hw141.1 k0_h1
theorem k0_off281_inb : ∀ (i : grid0.Coords) (v2172 : BitVec 32) (k0_hw141 : k0_chk141 i v2172), ∀ (k0_h1 : k0_cond1 i = 1#1), ∀ a, (k0_off281 v2172) a + S8x128.size a ≤ S65536x128.size a := fun i v2172 k0_hw141 k0_h1 => k0_hw141.2.1 k0_h1
theorem k0_off282_inb : ∀ (i : grid0.Coords) (v2172 : BitVec 32) (k0_hw141 : k0_chk141 i v2172), ∀ (k0_h1 : k0_cond1 i = 1#1), ∀ a, (k0_off282 v2172) a + S1x128.size a ≤ S8192x128.size a := fun i v2172 k0_hw141 k0_h1 => k0_hw141.2.2 k0_h1

def k0_mult142 (v2187 : BitVec 32) : BitVec 32 :=
  let c3_i32_1169 : BitVec 32 := 3#32
  let v2188 : BitVec 32 := Scalar.shrsi v2187 c3_i32_1169
  let c8191_i32_1170 : BitVec 32 := 8191#32
  let v2189 : BitVec 32 := Scalar.andi v2188 c8191_i32_1170
  let c8_i32_1171 : BitVec 32 := 8#32
  let v2190 : BitVec 32 := Scalar.muli v2189 c8_i32_1171
  v2190

def k0_off283 (v2187 : BitVec 32) : Fin 2 → Nat :=
  let c3_i32_1169 : BitVec 32 := 3#32
  let v2188 : BitVec 32 := Scalar.shrsi v2187 c3_i32_1169
  let c8191_i32_1170 : BitVec 32 := 8191#32
  let v2189 : BitVec 32 := Scalar.andi v2188 c8191_i32_1170
  let c8_i32_1171 : BitVec 32 := 8#32
  let v2190 : BitVec 32 := Scalar.muli v2189 c8_i32_1171
  let v2191 : BitVec 32 := v2190
  let v2192 : Index := Scalar.indexCast v2191
  let c0_1172 : Index := 0#32
  ![v2192.toNat, 0]
def k0_off284 (v2187 : BitVec 32) : Fin 2 → Nat :=
  let c3_i32_1169 : BitVec 32 := 3#32
  let v2188 : BitVec 32 := Scalar.shrsi v2187 c3_i32_1169
  let c8191_i32_1170 : BitVec 32 := 8191#32
  let v2189 : BitVec 32 := Scalar.andi v2188 c8191_i32_1170
  let v2197 : Index := Scalar.indexCast v2189
  let c0_1174 : Index := 0#32
  ![v2197.toNat, 0]

def k0_chk142 (i : grid0.Coords) (v2187 : BitVec 32) : Prop :=
  (∀ (k0_h1 : k0_cond1 i = 1#1), 8 ∣ (k0_mult142 v2187).toNat) ∧
  (∀ (k0_h1 : k0_cond1 i = 1#1), ∀ a, (k0_off283 v2187) a + S8x128.size a ≤ S65536x128.size a) ∧
  (∀ (k0_h1 : k0_cond1 i = 1#1), ∀ a, (k0_off284 v2187) a + S1x128.size a ≤ S8192x128.size a)
theorem k0_mult142_dvd : ∀ (i : grid0.Coords) (v2187 : BitVec 32) (k0_hw142 : k0_chk142 i v2187), ∀ (k0_h1 : k0_cond1 i = 1#1), 8 ∣ (k0_mult142 v2187).toNat := fun i v2187 k0_hw142 k0_h1 => k0_hw142.1 k0_h1
theorem k0_off283_inb : ∀ (i : grid0.Coords) (v2187 : BitVec 32) (k0_hw142 : k0_chk142 i v2187), ∀ (k0_h1 : k0_cond1 i = 1#1), ∀ a, (k0_off283 v2187) a + S8x128.size a ≤ S65536x128.size a := fun i v2187 k0_hw142 k0_h1 => k0_hw142.2.1 k0_h1
theorem k0_off284_inb : ∀ (i : grid0.Coords) (v2187 : BitVec 32) (k0_hw142 : k0_chk142 i v2187), ∀ (k0_h1 : k0_cond1 i = 1#1), ∀ a, (k0_off284 v2187) a + S1x128.size a ≤ S8192x128.size a := fun i v2187 k0_hw142 k0_h1 => k0_hw142.2.2 k0_h1

def k0_mult143 (v2202 : BitVec 32) : BitVec 32 :=
  let c3_i32_1177 : BitVec 32 := 3#32
  let v2203 : BitVec 32 := Scalar.shrsi v2202 c3_i32_1177
  let c8191_i32_1178 : BitVec 32 := 8191#32
  let v2204 : BitVec 32 := Scalar.andi v2203 c8191_i32_1178
  let c8_i32_1179 : BitVec 32 := 8#32
  let v2205 : BitVec 32 := Scalar.muli v2204 c8_i32_1179
  v2205

def k0_off285 (v2202 : BitVec 32) : Fin 2 → Nat :=
  let c3_i32_1177 : BitVec 32 := 3#32
  let v2203 : BitVec 32 := Scalar.shrsi v2202 c3_i32_1177
  let c8191_i32_1178 : BitVec 32 := 8191#32
  let v2204 : BitVec 32 := Scalar.andi v2203 c8191_i32_1178
  let c8_i32_1179 : BitVec 32 := 8#32
  let v2205 : BitVec 32 := Scalar.muli v2204 c8_i32_1179
  let v2206 : BitVec 32 := v2205
  let v2207 : Index := Scalar.indexCast v2206
  let c0_1180 : Index := 0#32
  ![v2207.toNat, 0]
def k0_off286 (v2202 : BitVec 32) : Fin 2 → Nat :=
  let c3_i32_1177 : BitVec 32 := 3#32
  let v2203 : BitVec 32 := Scalar.shrsi v2202 c3_i32_1177
  let c8191_i32_1178 : BitVec 32 := 8191#32
  let v2204 : BitVec 32 := Scalar.andi v2203 c8191_i32_1178
  let v2212 : Index := Scalar.indexCast v2204
  let c0_1182 : Index := 0#32
  ![v2212.toNat, 0]

def k0_chk143 (i : grid0.Coords) (v2202 : BitVec 32) : Prop :=
  (∀ (k0_h1 : k0_cond1 i = 1#1), 8 ∣ (k0_mult143 v2202).toNat) ∧
  (∀ (k0_h1 : k0_cond1 i = 1#1), ∀ a, (k0_off285 v2202) a + S8x128.size a ≤ S65536x128.size a) ∧
  (∀ (k0_h1 : k0_cond1 i = 1#1), ∀ a, (k0_off286 v2202) a + S1x128.size a ≤ S8192x128.size a)
theorem k0_mult143_dvd : ∀ (i : grid0.Coords) (v2202 : BitVec 32) (k0_hw143 : k0_chk143 i v2202), ∀ (k0_h1 : k0_cond1 i = 1#1), 8 ∣ (k0_mult143 v2202).toNat := fun i v2202 k0_hw143 k0_h1 => k0_hw143.1 k0_h1
theorem k0_off285_inb : ∀ (i : grid0.Coords) (v2202 : BitVec 32) (k0_hw143 : k0_chk143 i v2202), ∀ (k0_h1 : k0_cond1 i = 1#1), ∀ a, (k0_off285 v2202) a + S8x128.size a ≤ S65536x128.size a := fun i v2202 k0_hw143 k0_h1 => k0_hw143.2.1 k0_h1
theorem k0_off286_inb : ∀ (i : grid0.Coords) (v2202 : BitVec 32) (k0_hw143 : k0_chk143 i v2202), ∀ (k0_h1 : k0_cond1 i = 1#1), ∀ a, (k0_off286 v2202) a + S1x128.size a ≤ S8192x128.size a := fun i v2202 k0_hw143 k0_h1 => k0_hw143.2.2 k0_h1

def k0_mult144 (v2217 : BitVec 32) : BitVec 32 :=
  let c3_i32_1185 : BitVec 32 := 3#32
  let v2218 : BitVec 32 := Scalar.shrsi v2217 c3_i32_1185
  let c8191_i32_1186 : BitVec 32 := 8191#32
  let v2219 : BitVec 32 := Scalar.andi v2218 c8191_i32_1186
  let c8_i32_1187 : BitVec 32 := 8#32
  let v2220 : BitVec 32 := Scalar.muli v2219 c8_i32_1187
  v2220

def k0_off287 (v2217 : BitVec 32) : Fin 2 → Nat :=
  let c3_i32_1185 : BitVec 32 := 3#32
  let v2218 : BitVec 32 := Scalar.shrsi v2217 c3_i32_1185
  let c8191_i32_1186 : BitVec 32 := 8191#32
  let v2219 : BitVec 32 := Scalar.andi v2218 c8191_i32_1186
  let c8_i32_1187 : BitVec 32 := 8#32
  let v2220 : BitVec 32 := Scalar.muli v2219 c8_i32_1187
  let v2221 : BitVec 32 := v2220
  let v2222 : Index := Scalar.indexCast v2221
  let c0_1188 : Index := 0#32
  ![v2222.toNat, 0]
def k0_off288 (v2217 : BitVec 32) : Fin 2 → Nat :=
  let c3_i32_1185 : BitVec 32 := 3#32
  let v2218 : BitVec 32 := Scalar.shrsi v2217 c3_i32_1185
  let c8191_i32_1186 : BitVec 32 := 8191#32
  let v2219 : BitVec 32 := Scalar.andi v2218 c8191_i32_1186
  let v2227 : Index := Scalar.indexCast v2219
  let c0_1190 : Index := 0#32
  ![v2227.toNat, 0]

def k0_chk144 (i : grid0.Coords) (v2217 : BitVec 32) : Prop :=
  (∀ (k0_h1 : k0_cond1 i = 1#1), 8 ∣ (k0_mult144 v2217).toNat) ∧
  (∀ (k0_h1 : k0_cond1 i = 1#1), ∀ a, (k0_off287 v2217) a + S8x128.size a ≤ S65536x128.size a) ∧
  (∀ (k0_h1 : k0_cond1 i = 1#1), ∀ a, (k0_off288 v2217) a + S1x128.size a ≤ S8192x128.size a)
theorem k0_mult144_dvd : ∀ (i : grid0.Coords) (v2217 : BitVec 32) (k0_hw144 : k0_chk144 i v2217), ∀ (k0_h1 : k0_cond1 i = 1#1), 8 ∣ (k0_mult144 v2217).toNat := fun i v2217 k0_hw144 k0_h1 => k0_hw144.1 k0_h1
theorem k0_off287_inb : ∀ (i : grid0.Coords) (v2217 : BitVec 32) (k0_hw144 : k0_chk144 i v2217), ∀ (k0_h1 : k0_cond1 i = 1#1), ∀ a, (k0_off287 v2217) a + S8x128.size a ≤ S65536x128.size a := fun i v2217 k0_hw144 k0_h1 => k0_hw144.2.1 k0_h1
theorem k0_off288_inb : ∀ (i : grid0.Coords) (v2217 : BitVec 32) (k0_hw144 : k0_chk144 i v2217), ∀ (k0_h1 : k0_cond1 i = 1#1), ∀ a, (k0_off288 v2217) a + S1x128.size a ≤ S8192x128.size a := fun i v2217 k0_hw144 k0_h1 => k0_hw144.2.2 k0_h1

def k0_mult145 (v2232 : BitVec 32) : BitVec 32 :=
  let c3_i32_1194 : BitVec 32 := 3#32
  let v2233 : BitVec 32 := Scalar.shrsi v2232 c3_i32_1194
  let c8191_i32_1195 : BitVec 32 := 8191#32
  let v2234 : BitVec 32 := Scalar.andi v2233 c8191_i32_1195
  let c8_i32_1196 : BitVec 32 := 8#32
  let v2235 : BitVec 32 := Scalar.muli v2234 c8_i32_1196
  v2235

def k0_off289 (v2232 : BitVec 32) : Fin 2 → Nat :=
  let c3_i32_1194 : BitVec 32 := 3#32
  let v2233 : BitVec 32 := Scalar.shrsi v2232 c3_i32_1194
  let c8191_i32_1195 : BitVec 32 := 8191#32
  let v2234 : BitVec 32 := Scalar.andi v2233 c8191_i32_1195
  let c8_i32_1196 : BitVec 32 := 8#32
  let v2235 : BitVec 32 := Scalar.muli v2234 c8_i32_1196
  let v2236 : BitVec 32 := v2235
  let v2237 : Index := Scalar.indexCast v2236
  let c0_1197 : Index := 0#32
  ![v2237.toNat, 0]
def k0_off290 (v2232 : BitVec 32) : Fin 2 → Nat :=
  let c3_i32_1194 : BitVec 32 := 3#32
  let v2233 : BitVec 32 := Scalar.shrsi v2232 c3_i32_1194
  let c8191_i32_1195 : BitVec 32 := 8191#32
  let v2234 : BitVec 32 := Scalar.andi v2233 c8191_i32_1195
  let v2242 : Index := Scalar.indexCast v2234
  let c0_1199 : Index := 0#32
  ![v2242.toNat, 0]

def k0_chk145 (i : grid0.Coords) (v2232 : BitVec 32) : Prop :=
  (∀ (k0_h1 : k0_cond1 i = 1#1), 8 ∣ (k0_mult145 v2232).toNat) ∧
  (∀ (k0_h1 : k0_cond1 i = 1#1), ∀ a, (k0_off289 v2232) a + S8x128.size a ≤ S65536x128.size a) ∧
  (∀ (k0_h1 : k0_cond1 i = 1#1), ∀ a, (k0_off290 v2232) a + S1x128.size a ≤ S8192x128.size a)
theorem k0_mult145_dvd : ∀ (i : grid0.Coords) (v2232 : BitVec 32) (k0_hw145 : k0_chk145 i v2232), ∀ (k0_h1 : k0_cond1 i = 1#1), 8 ∣ (k0_mult145 v2232).toNat := fun i v2232 k0_hw145 k0_h1 => k0_hw145.1 k0_h1
theorem k0_off289_inb : ∀ (i : grid0.Coords) (v2232 : BitVec 32) (k0_hw145 : k0_chk145 i v2232), ∀ (k0_h1 : k0_cond1 i = 1#1), ∀ a, (k0_off289 v2232) a + S8x128.size a ≤ S65536x128.size a := fun i v2232 k0_hw145 k0_h1 => k0_hw145.2.1 k0_h1
theorem k0_off290_inb : ∀ (i : grid0.Coords) (v2232 : BitVec 32) (k0_hw145 : k0_chk145 i v2232), ∀ (k0_h1 : k0_cond1 i = 1#1), ∀ a, (k0_off290 v2232) a + S1x128.size a ≤ S8192x128.size a := fun i v2232 k0_hw145 k0_h1 => k0_hw145.2.2 k0_h1

def k0_mult146 (v2247 : BitVec 32) : BitVec 32 :=
  let c3_i32_1202 : BitVec 32 := 3#32
  let v2248 : BitVec 32 := Scalar.shrsi v2247 c3_i32_1202
  let c8191_i32_1203 : BitVec 32 := 8191#32
  let v2249 : BitVec 32 := Scalar.andi v2248 c8191_i32_1203
  let c8_i32_1204 : BitVec 32 := 8#32
  let v2250 : BitVec 32 := Scalar.muli v2249 c8_i32_1204
  v2250

def k0_off291 (v2247 : BitVec 32) : Fin 2 → Nat :=
  let c3_i32_1202 : BitVec 32 := 3#32
  let v2248 : BitVec 32 := Scalar.shrsi v2247 c3_i32_1202
  let c8191_i32_1203 : BitVec 32 := 8191#32
  let v2249 : BitVec 32 := Scalar.andi v2248 c8191_i32_1203
  let c8_i32_1204 : BitVec 32 := 8#32
  let v2250 : BitVec 32 := Scalar.muli v2249 c8_i32_1204
  let v2251 : BitVec 32 := v2250
  let v2252 : Index := Scalar.indexCast v2251
  let c0_1205 : Index := 0#32
  ![v2252.toNat, 0]
def k0_off292 (v2247 : BitVec 32) : Fin 2 → Nat :=
  let c3_i32_1202 : BitVec 32 := 3#32
  let v2248 : BitVec 32 := Scalar.shrsi v2247 c3_i32_1202
  let c8191_i32_1203 : BitVec 32 := 8191#32
  let v2249 : BitVec 32 := Scalar.andi v2248 c8191_i32_1203
  let v2257 : Index := Scalar.indexCast v2249
  let c0_1207 : Index := 0#32
  ![v2257.toNat, 0]

def k0_chk146 (i : grid0.Coords) (v2247 : BitVec 32) : Prop :=
  (∀ (k0_h1 : k0_cond1 i = 1#1), 8 ∣ (k0_mult146 v2247).toNat) ∧
  (∀ (k0_h1 : k0_cond1 i = 1#1), ∀ a, (k0_off291 v2247) a + S8x128.size a ≤ S65536x128.size a) ∧
  (∀ (k0_h1 : k0_cond1 i = 1#1), ∀ a, (k0_off292 v2247) a + S1x128.size a ≤ S8192x128.size a)
theorem k0_mult146_dvd : ∀ (i : grid0.Coords) (v2247 : BitVec 32) (k0_hw146 : k0_chk146 i v2247), ∀ (k0_h1 : k0_cond1 i = 1#1), 8 ∣ (k0_mult146 v2247).toNat := fun i v2247 k0_hw146 k0_h1 => k0_hw146.1 k0_h1
theorem k0_off291_inb : ∀ (i : grid0.Coords) (v2247 : BitVec 32) (k0_hw146 : k0_chk146 i v2247), ∀ (k0_h1 : k0_cond1 i = 1#1), ∀ a, (k0_off291 v2247) a + S8x128.size a ≤ S65536x128.size a := fun i v2247 k0_hw146 k0_h1 => k0_hw146.2.1 k0_h1
theorem k0_off292_inb : ∀ (i : grid0.Coords) (v2247 : BitVec 32) (k0_hw146 : k0_chk146 i v2247), ∀ (k0_h1 : k0_cond1 i = 1#1), ∀ a, (k0_off292 v2247) a + S1x128.size a ≤ S8192x128.size a := fun i v2247 k0_hw146 k0_h1 => k0_hw146.2.2 k0_h1

def k0_mult147 (v2262 : BitVec 32) : BitVec 32 :=
  let c3_i32_1210 : BitVec 32 := 3#32
  let v2263 : BitVec 32 := Scalar.shrsi v2262 c3_i32_1210
  let c8191_i32_1211 : BitVec 32 := 8191#32
  let v2264 : BitVec 32 := Scalar.andi v2263 c8191_i32_1211
  let c8_i32_1212 : BitVec 32 := 8#32
  let v2265 : BitVec 32 := Scalar.muli v2264 c8_i32_1212
  v2265

def k0_off293 (v2262 : BitVec 32) : Fin 2 → Nat :=
  let c3_i32_1210 : BitVec 32 := 3#32
  let v2263 : BitVec 32 := Scalar.shrsi v2262 c3_i32_1210
  let c8191_i32_1211 : BitVec 32 := 8191#32
  let v2264 : BitVec 32 := Scalar.andi v2263 c8191_i32_1211
  let c8_i32_1212 : BitVec 32 := 8#32
  let v2265 : BitVec 32 := Scalar.muli v2264 c8_i32_1212
  let v2266 : BitVec 32 := v2265
  let v2267 : Index := Scalar.indexCast v2266
  let c0_1213 : Index := 0#32
  ![v2267.toNat, 0]
def k0_off294 (v2262 : BitVec 32) : Fin 2 → Nat :=
  let c3_i32_1210 : BitVec 32 := 3#32
  let v2263 : BitVec 32 := Scalar.shrsi v2262 c3_i32_1210
  let c8191_i32_1211 : BitVec 32 := 8191#32
  let v2264 : BitVec 32 := Scalar.andi v2263 c8191_i32_1211
  let v2272 : Index := Scalar.indexCast v2264
  let c0_1215 : Index := 0#32
  ![v2272.toNat, 0]

def k0_chk147 (i : grid0.Coords) (v2262 : BitVec 32) : Prop :=
  (∀ (k0_h1 : k0_cond1 i = 1#1), 8 ∣ (k0_mult147 v2262).toNat) ∧
  (∀ (k0_h1 : k0_cond1 i = 1#1), ∀ a, (k0_off293 v2262) a + S8x128.size a ≤ S65536x128.size a) ∧
  (∀ (k0_h1 : k0_cond1 i = 1#1), ∀ a, (k0_off294 v2262) a + S1x128.size a ≤ S8192x128.size a)
theorem k0_mult147_dvd : ∀ (i : grid0.Coords) (v2262 : BitVec 32) (k0_hw147 : k0_chk147 i v2262), ∀ (k0_h1 : k0_cond1 i = 1#1), 8 ∣ (k0_mult147 v2262).toNat := fun i v2262 k0_hw147 k0_h1 => k0_hw147.1 k0_h1
theorem k0_off293_inb : ∀ (i : grid0.Coords) (v2262 : BitVec 32) (k0_hw147 : k0_chk147 i v2262), ∀ (k0_h1 : k0_cond1 i = 1#1), ∀ a, (k0_off293 v2262) a + S8x128.size a ≤ S65536x128.size a := fun i v2262 k0_hw147 k0_h1 => k0_hw147.2.1 k0_h1
theorem k0_off294_inb : ∀ (i : grid0.Coords) (v2262 : BitVec 32) (k0_hw147 : k0_chk147 i v2262), ∀ (k0_h1 : k0_cond1 i = 1#1), ∀ a, (k0_off294 v2262) a + S1x128.size a ≤ S8192x128.size a := fun i v2262 k0_hw147 k0_h1 => k0_hw147.2.2 k0_h1

def k0_mult148 (v2277 : BitVec 32) : BitVec 32 :=
  let c3_i32_1218 : BitVec 32 := 3#32
  let v2278 : BitVec 32 := Scalar.shrsi v2277 c3_i32_1218
  let c8191_i32_1219 : BitVec 32 := 8191#32
  let v2279 : BitVec 32 := Scalar.andi v2278 c8191_i32_1219
  let c8_i32_1220 : BitVec 32 := 8#32
  let v2280 : BitVec 32 := Scalar.muli v2279 c8_i32_1220
  v2280

def k0_off295 (v2277 : BitVec 32) : Fin 2 → Nat :=
  let c3_i32_1218 : BitVec 32 := 3#32
  let v2278 : BitVec 32 := Scalar.shrsi v2277 c3_i32_1218
  let c8191_i32_1219 : BitVec 32 := 8191#32
  let v2279 : BitVec 32 := Scalar.andi v2278 c8191_i32_1219
  let c8_i32_1220 : BitVec 32 := 8#32
  let v2280 : BitVec 32 := Scalar.muli v2279 c8_i32_1220
  let v2281 : BitVec 32 := v2280
  let v2282 : Index := Scalar.indexCast v2281
  let c0_1221 : Index := 0#32
  ![v2282.toNat, 0]
def k0_off296 (v2277 : BitVec 32) : Fin 2 → Nat :=
  let c3_i32_1218 : BitVec 32 := 3#32
  let v2278 : BitVec 32 := Scalar.shrsi v2277 c3_i32_1218
  let c8191_i32_1219 : BitVec 32 := 8191#32
  let v2279 : BitVec 32 := Scalar.andi v2278 c8191_i32_1219
  let v2287 : Index := Scalar.indexCast v2279
  let c0_1223 : Index := 0#32
  ![v2287.toNat, 0]

def k0_chk148 (i : grid0.Coords) (v2277 : BitVec 32) : Prop :=
  (∀ (k0_h1 : k0_cond1 i = 1#1), 8 ∣ (k0_mult148 v2277).toNat) ∧
  (∀ (k0_h1 : k0_cond1 i = 1#1), ∀ a, (k0_off295 v2277) a + S8x128.size a ≤ S65536x128.size a) ∧
  (∀ (k0_h1 : k0_cond1 i = 1#1), ∀ a, (k0_off296 v2277) a + S1x128.size a ≤ S8192x128.size a)
theorem k0_mult148_dvd : ∀ (i : grid0.Coords) (v2277 : BitVec 32) (k0_hw148 : k0_chk148 i v2277), ∀ (k0_h1 : k0_cond1 i = 1#1), 8 ∣ (k0_mult148 v2277).toNat := fun i v2277 k0_hw148 k0_h1 => k0_hw148.1 k0_h1
theorem k0_off295_inb : ∀ (i : grid0.Coords) (v2277 : BitVec 32) (k0_hw148 : k0_chk148 i v2277), ∀ (k0_h1 : k0_cond1 i = 1#1), ∀ a, (k0_off295 v2277) a + S8x128.size a ≤ S65536x128.size a := fun i v2277 k0_hw148 k0_h1 => k0_hw148.2.1 k0_h1
theorem k0_off296_inb : ∀ (i : grid0.Coords) (v2277 : BitVec 32) (k0_hw148 : k0_chk148 i v2277), ∀ (k0_h1 : k0_cond1 i = 1#1), ∀ a, (k0_off296 v2277) a + S1x128.size a ≤ S8192x128.size a := fun i v2277 k0_hw148 k0_h1 => k0_hw148.2.2 k0_h1

def k0_mult149 (v2292 : BitVec 32) : BitVec 32 :=
  let c3_i32_1226 : BitVec 32 := 3#32
  let v2293 : BitVec 32 := Scalar.shrsi v2292 c3_i32_1226
  let c8191_i32_1227 : BitVec 32 := 8191#32
  let v2294 : BitVec 32 := Scalar.andi v2293 c8191_i32_1227
  let c8_i32_1228 : BitVec 32 := 8#32
  let v2295 : BitVec 32 := Scalar.muli v2294 c8_i32_1228
  v2295

def k0_off297 (v2292 : BitVec 32) : Fin 2 → Nat :=
  let c3_i32_1226 : BitVec 32 := 3#32
  let v2293 : BitVec 32 := Scalar.shrsi v2292 c3_i32_1226
  let c8191_i32_1227 : BitVec 32 := 8191#32
  let v2294 : BitVec 32 := Scalar.andi v2293 c8191_i32_1227
  let c8_i32_1228 : BitVec 32 := 8#32
  let v2295 : BitVec 32 := Scalar.muli v2294 c8_i32_1228
  let v2296 : BitVec 32 := v2295
  let v2297 : Index := Scalar.indexCast v2296
  let c0_1229 : Index := 0#32
  ![v2297.toNat, 0]
def k0_off298 (v2292 : BitVec 32) : Fin 2 → Nat :=
  let c3_i32_1226 : BitVec 32 := 3#32
  let v2293 : BitVec 32 := Scalar.shrsi v2292 c3_i32_1226
  let c8191_i32_1227 : BitVec 32 := 8191#32
  let v2294 : BitVec 32 := Scalar.andi v2293 c8191_i32_1227
  let v2302 : Index := Scalar.indexCast v2294
  let c0_1231 : Index := 0#32
  ![v2302.toNat, 0]

def k0_chk149 (i : grid0.Coords) (v2292 : BitVec 32) : Prop :=
  (∀ (k0_h1 : k0_cond1 i = 1#1), 8 ∣ (k0_mult149 v2292).toNat) ∧
  (∀ (k0_h1 : k0_cond1 i = 1#1), ∀ a, (k0_off297 v2292) a + S8x128.size a ≤ S65536x128.size a) ∧
  (∀ (k0_h1 : k0_cond1 i = 1#1), ∀ a, (k0_off298 v2292) a + S1x128.size a ≤ S8192x128.size a)
theorem k0_mult149_dvd : ∀ (i : grid0.Coords) (v2292 : BitVec 32) (k0_hw149 : k0_chk149 i v2292), ∀ (k0_h1 : k0_cond1 i = 1#1), 8 ∣ (k0_mult149 v2292).toNat := fun i v2292 k0_hw149 k0_h1 => k0_hw149.1 k0_h1
theorem k0_off297_inb : ∀ (i : grid0.Coords) (v2292 : BitVec 32) (k0_hw149 : k0_chk149 i v2292), ∀ (k0_h1 : k0_cond1 i = 1#1), ∀ a, (k0_off297 v2292) a + S8x128.size a ≤ S65536x128.size a := fun i v2292 k0_hw149 k0_h1 => k0_hw149.2.1 k0_h1
theorem k0_off298_inb : ∀ (i : grid0.Coords) (v2292 : BitVec 32) (k0_hw149 : k0_chk149 i v2292), ∀ (k0_h1 : k0_cond1 i = 1#1), ∀ a, (k0_off298 v2292) a + S1x128.size a ≤ S8192x128.size a := fun i v2292 k0_hw149 k0_h1 => k0_hw149.2.2 k0_h1

def k0_mult150 (v2307 : BitVec 32) : BitVec 32 :=
  let c3_i32_1234 : BitVec 32 := 3#32
  let v2308 : BitVec 32 := Scalar.shrsi v2307 c3_i32_1234
  let c8191_i32_1235 : BitVec 32 := 8191#32
  let v2309 : BitVec 32 := Scalar.andi v2308 c8191_i32_1235
  let c8_i32_1236 : BitVec 32 := 8#32
  let v2310 : BitVec 32 := Scalar.muli v2309 c8_i32_1236
  v2310

def k0_off299 (v2307 : BitVec 32) : Fin 2 → Nat :=
  let c3_i32_1234 : BitVec 32 := 3#32
  let v2308 : BitVec 32 := Scalar.shrsi v2307 c3_i32_1234
  let c8191_i32_1235 : BitVec 32 := 8191#32
  let v2309 : BitVec 32 := Scalar.andi v2308 c8191_i32_1235
  let c8_i32_1236 : BitVec 32 := 8#32
  let v2310 : BitVec 32 := Scalar.muli v2309 c8_i32_1236
  let v2311 : BitVec 32 := v2310
  let v2312 : Index := Scalar.indexCast v2311
  let c0_1237 : Index := 0#32
  ![v2312.toNat, 0]
def k0_off300 (v2307 : BitVec 32) : Fin 2 → Nat :=
  let c3_i32_1234 : BitVec 32 := 3#32
  let v2308 : BitVec 32 := Scalar.shrsi v2307 c3_i32_1234
  let c8191_i32_1235 : BitVec 32 := 8191#32
  let v2309 : BitVec 32 := Scalar.andi v2308 c8191_i32_1235
  let v2317 : Index := Scalar.indexCast v2309
  let c0_1239 : Index := 0#32
  ![v2317.toNat, 0]

def k0_chk150 (i : grid0.Coords) (v2307 : BitVec 32) : Prop :=
  (∀ (k0_h1 : k0_cond1 i = 1#1), 8 ∣ (k0_mult150 v2307).toNat) ∧
  (∀ (k0_h1 : k0_cond1 i = 1#1), ∀ a, (k0_off299 v2307) a + S8x128.size a ≤ S65536x128.size a) ∧
  (∀ (k0_h1 : k0_cond1 i = 1#1), ∀ a, (k0_off300 v2307) a + S1x128.size a ≤ S8192x128.size a)
theorem k0_mult150_dvd : ∀ (i : grid0.Coords) (v2307 : BitVec 32) (k0_hw150 : k0_chk150 i v2307), ∀ (k0_h1 : k0_cond1 i = 1#1), 8 ∣ (k0_mult150 v2307).toNat := fun i v2307 k0_hw150 k0_h1 => k0_hw150.1 k0_h1
theorem k0_off299_inb : ∀ (i : grid0.Coords) (v2307 : BitVec 32) (k0_hw150 : k0_chk150 i v2307), ∀ (k0_h1 : k0_cond1 i = 1#1), ∀ a, (k0_off299 v2307) a + S8x128.size a ≤ S65536x128.size a := fun i v2307 k0_hw150 k0_h1 => k0_hw150.2.1 k0_h1
theorem k0_off300_inb : ∀ (i : grid0.Coords) (v2307 : BitVec 32) (k0_hw150 : k0_chk150 i v2307), ∀ (k0_h1 : k0_cond1 i = 1#1), ∀ a, (k0_off300 v2307) a + S1x128.size a ≤ S8192x128.size a := fun i v2307 k0_hw150 k0_h1 => k0_hw150.2.2 k0_h1

def k0_mult151 (v2322 : BitVec 32) : BitVec 32 :=
  let c3_i32_1242 : BitVec 32 := 3#32
  let v2323 : BitVec 32 := Scalar.shrsi v2322 c3_i32_1242
  let c8191_i32_1243 : BitVec 32 := 8191#32
  let v2324 : BitVec 32 := Scalar.andi v2323 c8191_i32_1243
  let c8_i32_1244 : BitVec 32 := 8#32
  let v2325 : BitVec 32 := Scalar.muli v2324 c8_i32_1244
  v2325

def k0_off301 (v2322 : BitVec 32) : Fin 2 → Nat :=
  let c3_i32_1242 : BitVec 32 := 3#32
  let v2323 : BitVec 32 := Scalar.shrsi v2322 c3_i32_1242
  let c8191_i32_1243 : BitVec 32 := 8191#32
  let v2324 : BitVec 32 := Scalar.andi v2323 c8191_i32_1243
  let c8_i32_1244 : BitVec 32 := 8#32
  let v2325 : BitVec 32 := Scalar.muli v2324 c8_i32_1244
  let v2326 : BitVec 32 := v2325
  let v2327 : Index := Scalar.indexCast v2326
  let c0_1245 : Index := 0#32
  ![v2327.toNat, 0]
def k0_off302 (v2322 : BitVec 32) : Fin 2 → Nat :=
  let c3_i32_1242 : BitVec 32 := 3#32
  let v2323 : BitVec 32 := Scalar.shrsi v2322 c3_i32_1242
  let c8191_i32_1243 : BitVec 32 := 8191#32
  let v2324 : BitVec 32 := Scalar.andi v2323 c8191_i32_1243
  let v2332 : Index := Scalar.indexCast v2324
  let c0_1247 : Index := 0#32
  ![v2332.toNat, 0]

def k0_chk151 (i : grid0.Coords) (v2322 : BitVec 32) : Prop :=
  (∀ (k0_h1 : k0_cond1 i = 1#1), 8 ∣ (k0_mult151 v2322).toNat) ∧
  (∀ (k0_h1 : k0_cond1 i = 1#1), ∀ a, (k0_off301 v2322) a + S8x128.size a ≤ S65536x128.size a) ∧
  (∀ (k0_h1 : k0_cond1 i = 1#1), ∀ a, (k0_off302 v2322) a + S1x128.size a ≤ S8192x128.size a)
theorem k0_mult151_dvd : ∀ (i : grid0.Coords) (v2322 : BitVec 32) (k0_hw151 : k0_chk151 i v2322), ∀ (k0_h1 : k0_cond1 i = 1#1), 8 ∣ (k0_mult151 v2322).toNat := fun i v2322 k0_hw151 k0_h1 => k0_hw151.1 k0_h1
theorem k0_off301_inb : ∀ (i : grid0.Coords) (v2322 : BitVec 32) (k0_hw151 : k0_chk151 i v2322), ∀ (k0_h1 : k0_cond1 i = 1#1), ∀ a, (k0_off301 v2322) a + S8x128.size a ≤ S65536x128.size a := fun i v2322 k0_hw151 k0_h1 => k0_hw151.2.1 k0_h1
theorem k0_off302_inb : ∀ (i : grid0.Coords) (v2322 : BitVec 32) (k0_hw151 : k0_chk151 i v2322), ∀ (k0_h1 : k0_cond1 i = 1#1), ∀ a, (k0_off302 v2322) a + S1x128.size a ≤ S8192x128.size a := fun i v2322 k0_hw151 k0_h1 => k0_hw151.2.2 k0_h1

def k0_mult152 (v2337 : BitVec 32) : BitVec 32 :=
  let c3_i32_1250 : BitVec 32 := 3#32
  let v2338 : BitVec 32 := Scalar.shrsi v2337 c3_i32_1250
  let c8191_i32_1251 : BitVec 32 := 8191#32
  let v2339 : BitVec 32 := Scalar.andi v2338 c8191_i32_1251
  let c8_i32_1252 : BitVec 32 := 8#32
  let v2340 : BitVec 32 := Scalar.muli v2339 c8_i32_1252
  v2340

def k0_off303 (v2337 : BitVec 32) : Fin 2 → Nat :=
  let c3_i32_1250 : BitVec 32 := 3#32
  let v2338 : BitVec 32 := Scalar.shrsi v2337 c3_i32_1250
  let c8191_i32_1251 : BitVec 32 := 8191#32
  let v2339 : BitVec 32 := Scalar.andi v2338 c8191_i32_1251
  let c8_i32_1252 : BitVec 32 := 8#32
  let v2340 : BitVec 32 := Scalar.muli v2339 c8_i32_1252
  let v2341 : BitVec 32 := v2340
  let v2342 : Index := Scalar.indexCast v2341
  let c0_1253 : Index := 0#32
  ![v2342.toNat, 0]
def k0_off304 (v2337 : BitVec 32) : Fin 2 → Nat :=
  let c3_i32_1250 : BitVec 32 := 3#32
  let v2338 : BitVec 32 := Scalar.shrsi v2337 c3_i32_1250
  let c8191_i32_1251 : BitVec 32 := 8191#32
  let v2339 : BitVec 32 := Scalar.andi v2338 c8191_i32_1251
  let v2347 : Index := Scalar.indexCast v2339
  let c0_1255 : Index := 0#32
  ![v2347.toNat, 0]

def k0_chk152 (i : grid0.Coords) (v2337 : BitVec 32) : Prop :=
  (∀ (k0_h1 : k0_cond1 i = 1#1), 8 ∣ (k0_mult152 v2337).toNat) ∧
  (∀ (k0_h1 : k0_cond1 i = 1#1), ∀ a, (k0_off303 v2337) a + S8x128.size a ≤ S65536x128.size a) ∧
  (∀ (k0_h1 : k0_cond1 i = 1#1), ∀ a, (k0_off304 v2337) a + S1x128.size a ≤ S8192x128.size a)
theorem k0_mult152_dvd : ∀ (i : grid0.Coords) (v2337 : BitVec 32) (k0_hw152 : k0_chk152 i v2337), ∀ (k0_h1 : k0_cond1 i = 1#1), 8 ∣ (k0_mult152 v2337).toNat := fun i v2337 k0_hw152 k0_h1 => k0_hw152.1 k0_h1
theorem k0_off303_inb : ∀ (i : grid0.Coords) (v2337 : BitVec 32) (k0_hw152 : k0_chk152 i v2337), ∀ (k0_h1 : k0_cond1 i = 1#1), ∀ a, (k0_off303 v2337) a + S8x128.size a ≤ S65536x128.size a := fun i v2337 k0_hw152 k0_h1 => k0_hw152.2.1 k0_h1
theorem k0_off304_inb : ∀ (i : grid0.Coords) (v2337 : BitVec 32) (k0_hw152 : k0_chk152 i v2337), ∀ (k0_h1 : k0_cond1 i = 1#1), ∀ a, (k0_off304 v2337) a + S1x128.size a ≤ S8192x128.size a := fun i v2337 k0_hw152 k0_h1 => k0_hw152.2.2 k0_h1

def k0_mult153 (v2352 : BitVec 32) : BitVec 32 :=
  let c3_i32_1259 : BitVec 32 := 3#32
  let v2353 : BitVec 32 := Scalar.shrsi v2352 c3_i32_1259
  let c8191_i32_1260 : BitVec 32 := 8191#32
  let v2354 : BitVec 32 := Scalar.andi v2353 c8191_i32_1260
  let c8_i32_1261 : BitVec 32 := 8#32
  let v2355 : BitVec 32 := Scalar.muli v2354 c8_i32_1261
  v2355

def k0_off305 (v2352 : BitVec 32) : Fin 2 → Nat :=
  let c3_i32_1259 : BitVec 32 := 3#32
  let v2353 : BitVec 32 := Scalar.shrsi v2352 c3_i32_1259
  let c8191_i32_1260 : BitVec 32 := 8191#32
  let v2354 : BitVec 32 := Scalar.andi v2353 c8191_i32_1260
  let c8_i32_1261 : BitVec 32 := 8#32
  let v2355 : BitVec 32 := Scalar.muli v2354 c8_i32_1261
  let v2356 : BitVec 32 := v2355
  let v2357 : Index := Scalar.indexCast v2356
  let c0_1262 : Index := 0#32
  ![v2357.toNat, 0]
def k0_off306 (v2352 : BitVec 32) : Fin 2 → Nat :=
  let c3_i32_1259 : BitVec 32 := 3#32
  let v2353 : BitVec 32 := Scalar.shrsi v2352 c3_i32_1259
  let c8191_i32_1260 : BitVec 32 := 8191#32
  let v2354 : BitVec 32 := Scalar.andi v2353 c8191_i32_1260
  let v2362 : Index := Scalar.indexCast v2354
  let c0_1264 : Index := 0#32
  ![v2362.toNat, 0]

def k0_chk153 (i : grid0.Coords) (v2352 : BitVec 32) : Prop :=
  (∀ (k0_h1 : k0_cond1 i = 1#1), 8 ∣ (k0_mult153 v2352).toNat) ∧
  (∀ (k0_h1 : k0_cond1 i = 1#1), ∀ a, (k0_off305 v2352) a + S8x128.size a ≤ S65536x128.size a) ∧
  (∀ (k0_h1 : k0_cond1 i = 1#1), ∀ a, (k0_off306 v2352) a + S1x128.size a ≤ S8192x128.size a)
theorem k0_mult153_dvd : ∀ (i : grid0.Coords) (v2352 : BitVec 32) (k0_hw153 : k0_chk153 i v2352), ∀ (k0_h1 : k0_cond1 i = 1#1), 8 ∣ (k0_mult153 v2352).toNat := fun i v2352 k0_hw153 k0_h1 => k0_hw153.1 k0_h1
theorem k0_off305_inb : ∀ (i : grid0.Coords) (v2352 : BitVec 32) (k0_hw153 : k0_chk153 i v2352), ∀ (k0_h1 : k0_cond1 i = 1#1), ∀ a, (k0_off305 v2352) a + S8x128.size a ≤ S65536x128.size a := fun i v2352 k0_hw153 k0_h1 => k0_hw153.2.1 k0_h1
theorem k0_off306_inb : ∀ (i : grid0.Coords) (v2352 : BitVec 32) (k0_hw153 : k0_chk153 i v2352), ∀ (k0_h1 : k0_cond1 i = 1#1), ∀ a, (k0_off306 v2352) a + S1x128.size a ≤ S8192x128.size a := fun i v2352 k0_hw153 k0_h1 => k0_hw153.2.2 k0_h1

def k0_mult154 (v2367 : BitVec 32) : BitVec 32 :=
  let c3_i32_1267 : BitVec 32 := 3#32
  let v2368 : BitVec 32 := Scalar.shrsi v2367 c3_i32_1267
  let c8191_i32_1268 : BitVec 32 := 8191#32
  let v2369 : BitVec 32 := Scalar.andi v2368 c8191_i32_1268
  let c8_i32_1269 : BitVec 32 := 8#32
  let v2370 : BitVec 32 := Scalar.muli v2369 c8_i32_1269
  v2370

def k0_off307 (v2367 : BitVec 32) : Fin 2 → Nat :=
  let c3_i32_1267 : BitVec 32 := 3#32
  let v2368 : BitVec 32 := Scalar.shrsi v2367 c3_i32_1267
  let c8191_i32_1268 : BitVec 32 := 8191#32
  let v2369 : BitVec 32 := Scalar.andi v2368 c8191_i32_1268
  let c8_i32_1269 : BitVec 32 := 8#32
  let v2370 : BitVec 32 := Scalar.muli v2369 c8_i32_1269
  let v2371 : BitVec 32 := v2370
  let v2372 : Index := Scalar.indexCast v2371
  let c0_1270 : Index := 0#32
  ![v2372.toNat, 0]
def k0_off308 (v2367 : BitVec 32) : Fin 2 → Nat :=
  let c3_i32_1267 : BitVec 32 := 3#32
  let v2368 : BitVec 32 := Scalar.shrsi v2367 c3_i32_1267
  let c8191_i32_1268 : BitVec 32 := 8191#32
  let v2369 : BitVec 32 := Scalar.andi v2368 c8191_i32_1268
  let v2377 : Index := Scalar.indexCast v2369
  let c0_1272 : Index := 0#32
  ![v2377.toNat, 0]

def k0_chk154 (i : grid0.Coords) (v2367 : BitVec 32) : Prop :=
  (∀ (k0_h1 : k0_cond1 i = 1#1), 8 ∣ (k0_mult154 v2367).toNat) ∧
  (∀ (k0_h1 : k0_cond1 i = 1#1), ∀ a, (k0_off307 v2367) a + S8x128.size a ≤ S65536x128.size a) ∧
  (∀ (k0_h1 : k0_cond1 i = 1#1), ∀ a, (k0_off308 v2367) a + S1x128.size a ≤ S8192x128.size a)
theorem k0_mult154_dvd : ∀ (i : grid0.Coords) (v2367 : BitVec 32) (k0_hw154 : k0_chk154 i v2367), ∀ (k0_h1 : k0_cond1 i = 1#1), 8 ∣ (k0_mult154 v2367).toNat := fun i v2367 k0_hw154 k0_h1 => k0_hw154.1 k0_h1
theorem k0_off307_inb : ∀ (i : grid0.Coords) (v2367 : BitVec 32) (k0_hw154 : k0_chk154 i v2367), ∀ (k0_h1 : k0_cond1 i = 1#1), ∀ a, (k0_off307 v2367) a + S8x128.size a ≤ S65536x128.size a := fun i v2367 k0_hw154 k0_h1 => k0_hw154.2.1 k0_h1
theorem k0_off308_inb : ∀ (i : grid0.Coords) (v2367 : BitVec 32) (k0_hw154 : k0_chk154 i v2367), ∀ (k0_h1 : k0_cond1 i = 1#1), ∀ a, (k0_off308 v2367) a + S1x128.size a ≤ S8192x128.size a := fun i v2367 k0_hw154 k0_h1 => k0_hw154.2.2 k0_h1

def k0_mult155 (v2382 : BitVec 32) : BitVec 32 :=
  let c3_i32_1275 : BitVec 32 := 3#32
  let v2383 : BitVec 32 := Scalar.shrsi v2382 c3_i32_1275
  let c8191_i32_1276 : BitVec 32 := 8191#32
  let v2384 : BitVec 32 := Scalar.andi v2383 c8191_i32_1276
  let c8_i32_1277 : BitVec 32 := 8#32
  let v2385 : BitVec 32 := Scalar.muli v2384 c8_i32_1277
  v2385

def k0_off309 (v2382 : BitVec 32) : Fin 2 → Nat :=
  let c3_i32_1275 : BitVec 32 := 3#32
  let v2383 : BitVec 32 := Scalar.shrsi v2382 c3_i32_1275
  let c8191_i32_1276 : BitVec 32 := 8191#32
  let v2384 : BitVec 32 := Scalar.andi v2383 c8191_i32_1276
  let c8_i32_1277 : BitVec 32 := 8#32
  let v2385 : BitVec 32 := Scalar.muli v2384 c8_i32_1277
  let v2386 : BitVec 32 := v2385
  let v2387 : Index := Scalar.indexCast v2386
  let c0_1278 : Index := 0#32
  ![v2387.toNat, 0]
def k0_off310 (v2382 : BitVec 32) : Fin 2 → Nat :=
  let c3_i32_1275 : BitVec 32 := 3#32
  let v2383 : BitVec 32 := Scalar.shrsi v2382 c3_i32_1275
  let c8191_i32_1276 : BitVec 32 := 8191#32
  let v2384 : BitVec 32 := Scalar.andi v2383 c8191_i32_1276
  let v2392 : Index := Scalar.indexCast v2384
  let c0_1280 : Index := 0#32
  ![v2392.toNat, 0]

def k0_chk155 (i : grid0.Coords) (v2382 : BitVec 32) : Prop :=
  (∀ (k0_h1 : k0_cond1 i = 1#1), 8 ∣ (k0_mult155 v2382).toNat) ∧
  (∀ (k0_h1 : k0_cond1 i = 1#1), ∀ a, (k0_off309 v2382) a + S8x128.size a ≤ S65536x128.size a) ∧
  (∀ (k0_h1 : k0_cond1 i = 1#1), ∀ a, (k0_off310 v2382) a + S1x128.size a ≤ S8192x128.size a)
theorem k0_mult155_dvd : ∀ (i : grid0.Coords) (v2382 : BitVec 32) (k0_hw155 : k0_chk155 i v2382), ∀ (k0_h1 : k0_cond1 i = 1#1), 8 ∣ (k0_mult155 v2382).toNat := fun i v2382 k0_hw155 k0_h1 => k0_hw155.1 k0_h1
theorem k0_off309_inb : ∀ (i : grid0.Coords) (v2382 : BitVec 32) (k0_hw155 : k0_chk155 i v2382), ∀ (k0_h1 : k0_cond1 i = 1#1), ∀ a, (k0_off309 v2382) a + S8x128.size a ≤ S65536x128.size a := fun i v2382 k0_hw155 k0_h1 => k0_hw155.2.1 k0_h1
theorem k0_off310_inb : ∀ (i : grid0.Coords) (v2382 : BitVec 32) (k0_hw155 : k0_chk155 i v2382), ∀ (k0_h1 : k0_cond1 i = 1#1), ∀ a, (k0_off310 v2382) a + S1x128.size a ≤ S8192x128.size a := fun i v2382 k0_hw155 k0_h1 => k0_hw155.2.2 k0_h1

def k0_mult156 (v2397 : BitVec 32) : BitVec 32 :=
  let c3_i32_1283 : BitVec 32 := 3#32
  let v2398 : BitVec 32 := Scalar.shrsi v2397 c3_i32_1283
  let c8191_i32_1284 : BitVec 32 := 8191#32
  let v2399 : BitVec 32 := Scalar.andi v2398 c8191_i32_1284
  let c8_i32_1285 : BitVec 32 := 8#32
  let v2400 : BitVec 32 := Scalar.muli v2399 c8_i32_1285
  v2400

def k0_off311 (v2397 : BitVec 32) : Fin 2 → Nat :=
  let c3_i32_1283 : BitVec 32 := 3#32
  let v2398 : BitVec 32 := Scalar.shrsi v2397 c3_i32_1283
  let c8191_i32_1284 : BitVec 32 := 8191#32
  let v2399 : BitVec 32 := Scalar.andi v2398 c8191_i32_1284
  let c8_i32_1285 : BitVec 32 := 8#32
  let v2400 : BitVec 32 := Scalar.muli v2399 c8_i32_1285
  let v2401 : BitVec 32 := v2400
  let v2402 : Index := Scalar.indexCast v2401
  let c0_1286 : Index := 0#32
  ![v2402.toNat, 0]
def k0_off312 (v2397 : BitVec 32) : Fin 2 → Nat :=
  let c3_i32_1283 : BitVec 32 := 3#32
  let v2398 : BitVec 32 := Scalar.shrsi v2397 c3_i32_1283
  let c8191_i32_1284 : BitVec 32 := 8191#32
  let v2399 : BitVec 32 := Scalar.andi v2398 c8191_i32_1284
  let v2407 : Index := Scalar.indexCast v2399
  let c0_1288 : Index := 0#32
  ![v2407.toNat, 0]

def k0_chk156 (i : grid0.Coords) (v2397 : BitVec 32) : Prop :=
  (∀ (k0_h1 : k0_cond1 i = 1#1), 8 ∣ (k0_mult156 v2397).toNat) ∧
  (∀ (k0_h1 : k0_cond1 i = 1#1), ∀ a, (k0_off311 v2397) a + S8x128.size a ≤ S65536x128.size a) ∧
  (∀ (k0_h1 : k0_cond1 i = 1#1), ∀ a, (k0_off312 v2397) a + S1x128.size a ≤ S8192x128.size a)
theorem k0_mult156_dvd : ∀ (i : grid0.Coords) (v2397 : BitVec 32) (k0_hw156 : k0_chk156 i v2397), ∀ (k0_h1 : k0_cond1 i = 1#1), 8 ∣ (k0_mult156 v2397).toNat := fun i v2397 k0_hw156 k0_h1 => k0_hw156.1 k0_h1
theorem k0_off311_inb : ∀ (i : grid0.Coords) (v2397 : BitVec 32) (k0_hw156 : k0_chk156 i v2397), ∀ (k0_h1 : k0_cond1 i = 1#1), ∀ a, (k0_off311 v2397) a + S8x128.size a ≤ S65536x128.size a := fun i v2397 k0_hw156 k0_h1 => k0_hw156.2.1 k0_h1
theorem k0_off312_inb : ∀ (i : grid0.Coords) (v2397 : BitVec 32) (k0_hw156 : k0_chk156 i v2397), ∀ (k0_h1 : k0_cond1 i = 1#1), ∀ a, (k0_off312 v2397) a + S1x128.size a ≤ S8192x128.size a := fun i v2397 k0_hw156 k0_h1 => k0_hw156.2.2 k0_h1

def k0_mult157 (v2412 : BitVec 32) : BitVec 32 :=
  let c3_i32_1291 : BitVec 32 := 3#32
  let v2413 : BitVec 32 := Scalar.shrsi v2412 c3_i32_1291
  let c8191_i32_1292 : BitVec 32 := 8191#32
  let v2414 : BitVec 32 := Scalar.andi v2413 c8191_i32_1292
  let c8_i32_1293 : BitVec 32 := 8#32
  let v2415 : BitVec 32 := Scalar.muli v2414 c8_i32_1293
  v2415

def k0_off313 (v2412 : BitVec 32) : Fin 2 → Nat :=
  let c3_i32_1291 : BitVec 32 := 3#32
  let v2413 : BitVec 32 := Scalar.shrsi v2412 c3_i32_1291
  let c8191_i32_1292 : BitVec 32 := 8191#32
  let v2414 : BitVec 32 := Scalar.andi v2413 c8191_i32_1292
  let c8_i32_1293 : BitVec 32 := 8#32
  let v2415 : BitVec 32 := Scalar.muli v2414 c8_i32_1293
  let v2416 : BitVec 32 := v2415
  let v2417 : Index := Scalar.indexCast v2416
  let c0_1294 : Index := 0#32
  ![v2417.toNat, 0]
def k0_off314 (v2412 : BitVec 32) : Fin 2 → Nat :=
  let c3_i32_1291 : BitVec 32 := 3#32
  let v2413 : BitVec 32 := Scalar.shrsi v2412 c3_i32_1291
  let c8191_i32_1292 : BitVec 32 := 8191#32
  let v2414 : BitVec 32 := Scalar.andi v2413 c8191_i32_1292
  let v2422 : Index := Scalar.indexCast v2414
  let c0_1296 : Index := 0#32
  ![v2422.toNat, 0]

def k0_chk157 (i : grid0.Coords) (v2412 : BitVec 32) : Prop :=
  (∀ (k0_h1 : k0_cond1 i = 1#1), 8 ∣ (k0_mult157 v2412).toNat) ∧
  (∀ (k0_h1 : k0_cond1 i = 1#1), ∀ a, (k0_off313 v2412) a + S8x128.size a ≤ S65536x128.size a) ∧
  (∀ (k0_h1 : k0_cond1 i = 1#1), ∀ a, (k0_off314 v2412) a + S1x128.size a ≤ S8192x128.size a)
theorem k0_mult157_dvd : ∀ (i : grid0.Coords) (v2412 : BitVec 32) (k0_hw157 : k0_chk157 i v2412), ∀ (k0_h1 : k0_cond1 i = 1#1), 8 ∣ (k0_mult157 v2412).toNat := fun i v2412 k0_hw157 k0_h1 => k0_hw157.1 k0_h1
theorem k0_off313_inb : ∀ (i : grid0.Coords) (v2412 : BitVec 32) (k0_hw157 : k0_chk157 i v2412), ∀ (k0_h1 : k0_cond1 i = 1#1), ∀ a, (k0_off313 v2412) a + S8x128.size a ≤ S65536x128.size a := fun i v2412 k0_hw157 k0_h1 => k0_hw157.2.1 k0_h1
theorem k0_off314_inb : ∀ (i : grid0.Coords) (v2412 : BitVec 32) (k0_hw157 : k0_chk157 i v2412), ∀ (k0_h1 : k0_cond1 i = 1#1), ∀ a, (k0_off314 v2412) a + S1x128.size a ≤ S8192x128.size a := fun i v2412 k0_hw157 k0_h1 => k0_hw157.2.2 k0_h1

def k0_mult158 (v2427 : BitVec 32) : BitVec 32 :=
  let c3_i32_1299 : BitVec 32 := 3#32
  let v2428 : BitVec 32 := Scalar.shrsi v2427 c3_i32_1299
  let c8191_i32_1300 : BitVec 32 := 8191#32
  let v2429 : BitVec 32 := Scalar.andi v2428 c8191_i32_1300
  let c8_i32_1301 : BitVec 32 := 8#32
  let v2430 : BitVec 32 := Scalar.muli v2429 c8_i32_1301
  v2430

def k0_off315 (v2427 : BitVec 32) : Fin 2 → Nat :=
  let c3_i32_1299 : BitVec 32 := 3#32
  let v2428 : BitVec 32 := Scalar.shrsi v2427 c3_i32_1299
  let c8191_i32_1300 : BitVec 32 := 8191#32
  let v2429 : BitVec 32 := Scalar.andi v2428 c8191_i32_1300
  let c8_i32_1301 : BitVec 32 := 8#32
  let v2430 : BitVec 32 := Scalar.muli v2429 c8_i32_1301
  let v2431 : BitVec 32 := v2430
  let v2432 : Index := Scalar.indexCast v2431
  let c0_1302 : Index := 0#32
  ![v2432.toNat, 0]
def k0_off316 (v2427 : BitVec 32) : Fin 2 → Nat :=
  let c3_i32_1299 : BitVec 32 := 3#32
  let v2428 : BitVec 32 := Scalar.shrsi v2427 c3_i32_1299
  let c8191_i32_1300 : BitVec 32 := 8191#32
  let v2429 : BitVec 32 := Scalar.andi v2428 c8191_i32_1300
  let v2437 : Index := Scalar.indexCast v2429
  let c0_1304 : Index := 0#32
  ![v2437.toNat, 0]

def k0_chk158 (i : grid0.Coords) (v2427 : BitVec 32) : Prop :=
  (∀ (k0_h1 : k0_cond1 i = 1#1), 8 ∣ (k0_mult158 v2427).toNat) ∧
  (∀ (k0_h1 : k0_cond1 i = 1#1), ∀ a, (k0_off315 v2427) a + S8x128.size a ≤ S65536x128.size a) ∧
  (∀ (k0_h1 : k0_cond1 i = 1#1), ∀ a, (k0_off316 v2427) a + S1x128.size a ≤ S8192x128.size a)
theorem k0_mult158_dvd : ∀ (i : grid0.Coords) (v2427 : BitVec 32) (k0_hw158 : k0_chk158 i v2427), ∀ (k0_h1 : k0_cond1 i = 1#1), 8 ∣ (k0_mult158 v2427).toNat := fun i v2427 k0_hw158 k0_h1 => k0_hw158.1 k0_h1
theorem k0_off315_inb : ∀ (i : grid0.Coords) (v2427 : BitVec 32) (k0_hw158 : k0_chk158 i v2427), ∀ (k0_h1 : k0_cond1 i = 1#1), ∀ a, (k0_off315 v2427) a + S8x128.size a ≤ S65536x128.size a := fun i v2427 k0_hw158 k0_h1 => k0_hw158.2.1 k0_h1
theorem k0_off316_inb : ∀ (i : grid0.Coords) (v2427 : BitVec 32) (k0_hw158 : k0_chk158 i v2427), ∀ (k0_h1 : k0_cond1 i = 1#1), ∀ a, (k0_off316 v2427) a + S1x128.size a ≤ S8192x128.size a := fun i v2427 k0_hw158 k0_h1 => k0_hw158.2.2 k0_h1

def k0_mult159 (v2442 : BitVec 32) : BitVec 32 :=
  let c3_i32_1307 : BitVec 32 := 3#32
  let v2443 : BitVec 32 := Scalar.shrsi v2442 c3_i32_1307
  let c8191_i32_1308 : BitVec 32 := 8191#32
  let v2444 : BitVec 32 := Scalar.andi v2443 c8191_i32_1308
  let c8_i32_1309 : BitVec 32 := 8#32
  let v2445 : BitVec 32 := Scalar.muli v2444 c8_i32_1309
  v2445

def k0_off317 (v2442 : BitVec 32) : Fin 2 → Nat :=
  let c3_i32_1307 : BitVec 32 := 3#32
  let v2443 : BitVec 32 := Scalar.shrsi v2442 c3_i32_1307
  let c8191_i32_1308 : BitVec 32 := 8191#32
  let v2444 : BitVec 32 := Scalar.andi v2443 c8191_i32_1308
  let c8_i32_1309 : BitVec 32 := 8#32
  let v2445 : BitVec 32 := Scalar.muli v2444 c8_i32_1309
  let v2446 : BitVec 32 := v2445
  let v2447 : Index := Scalar.indexCast v2446
  let c0_1310 : Index := 0#32
  ![v2447.toNat, 0]
def k0_off318 (v2442 : BitVec 32) : Fin 2 → Nat :=
  let c3_i32_1307 : BitVec 32 := 3#32
  let v2443 : BitVec 32 := Scalar.shrsi v2442 c3_i32_1307
  let c8191_i32_1308 : BitVec 32 := 8191#32
  let v2444 : BitVec 32 := Scalar.andi v2443 c8191_i32_1308
  let v2452 : Index := Scalar.indexCast v2444
  let c0_1312 : Index := 0#32
  ![v2452.toNat, 0]

def k0_chk159 (i : grid0.Coords) (v2442 : BitVec 32) : Prop :=
  (∀ (k0_h1 : k0_cond1 i = 1#1), 8 ∣ (k0_mult159 v2442).toNat) ∧
  (∀ (k0_h1 : k0_cond1 i = 1#1), ∀ a, (k0_off317 v2442) a + S8x128.size a ≤ S65536x128.size a) ∧
  (∀ (k0_h1 : k0_cond1 i = 1#1), ∀ a, (k0_off318 v2442) a + S1x128.size a ≤ S8192x128.size a)
theorem k0_mult159_dvd : ∀ (i : grid0.Coords) (v2442 : BitVec 32) (k0_hw159 : k0_chk159 i v2442), ∀ (k0_h1 : k0_cond1 i = 1#1), 8 ∣ (k0_mult159 v2442).toNat := fun i v2442 k0_hw159 k0_h1 => k0_hw159.1 k0_h1
theorem k0_off317_inb : ∀ (i : grid0.Coords) (v2442 : BitVec 32) (k0_hw159 : k0_chk159 i v2442), ∀ (k0_h1 : k0_cond1 i = 1#1), ∀ a, (k0_off317 v2442) a + S8x128.size a ≤ S65536x128.size a := fun i v2442 k0_hw159 k0_h1 => k0_hw159.2.1 k0_h1
theorem k0_off318_inb : ∀ (i : grid0.Coords) (v2442 : BitVec 32) (k0_hw159 : k0_chk159 i v2442), ∀ (k0_h1 : k0_cond1 i = 1#1), ∀ a, (k0_off318 v2442) a + S1x128.size a ≤ S8192x128.size a := fun i v2442 k0_hw159 k0_h1 => k0_hw159.2.2 k0_h1

def k0_mult160 (v2457 : BitVec 32) : BitVec 32 :=
  let c3_i32_1315 : BitVec 32 := 3#32
  let v2458 : BitVec 32 := Scalar.shrsi v2457 c3_i32_1315
  let c8191_i32_1316 : BitVec 32 := 8191#32
  let v2459 : BitVec 32 := Scalar.andi v2458 c8191_i32_1316
  let c8_i32_1317 : BitVec 32 := 8#32
  let v2460 : BitVec 32 := Scalar.muli v2459 c8_i32_1317
  v2460

def k0_off319 (v2457 : BitVec 32) : Fin 2 → Nat :=
  let c3_i32_1315 : BitVec 32 := 3#32
  let v2458 : BitVec 32 := Scalar.shrsi v2457 c3_i32_1315
  let c8191_i32_1316 : BitVec 32 := 8191#32
  let v2459 : BitVec 32 := Scalar.andi v2458 c8191_i32_1316
  let c8_i32_1317 : BitVec 32 := 8#32
  let v2460 : BitVec 32 := Scalar.muli v2459 c8_i32_1317
  let v2461 : BitVec 32 := v2460
  let v2462 : Index := Scalar.indexCast v2461
  let c0_1318 : Index := 0#32
  ![v2462.toNat, 0]
def k0_off320 (v2457 : BitVec 32) : Fin 2 → Nat :=
  let c3_i32_1315 : BitVec 32 := 3#32
  let v2458 : BitVec 32 := Scalar.shrsi v2457 c3_i32_1315
  let c8191_i32_1316 : BitVec 32 := 8191#32
  let v2459 : BitVec 32 := Scalar.andi v2458 c8191_i32_1316
  let v2467 : Index := Scalar.indexCast v2459
  let c0_1320 : Index := 0#32
  ![v2467.toNat, 0]

def k0_chk160 (i : grid0.Coords) (v2457 : BitVec 32) : Prop :=
  (∀ (k0_h1 : k0_cond1 i = 1#1), 8 ∣ (k0_mult160 v2457).toNat) ∧
  (∀ (k0_h1 : k0_cond1 i = 1#1), ∀ a, (k0_off319 v2457) a + S8x128.size a ≤ S65536x128.size a) ∧
  (∀ (k0_h1 : k0_cond1 i = 1#1), ∀ a, (k0_off320 v2457) a + S1x128.size a ≤ S8192x128.size a)
theorem k0_mult160_dvd : ∀ (i : grid0.Coords) (v2457 : BitVec 32) (k0_hw160 : k0_chk160 i v2457), ∀ (k0_h1 : k0_cond1 i = 1#1), 8 ∣ (k0_mult160 v2457).toNat := fun i v2457 k0_hw160 k0_h1 => k0_hw160.1 k0_h1
theorem k0_off319_inb : ∀ (i : grid0.Coords) (v2457 : BitVec 32) (k0_hw160 : k0_chk160 i v2457), ∀ (k0_h1 : k0_cond1 i = 1#1), ∀ a, (k0_off319 v2457) a + S8x128.size a ≤ S65536x128.size a := fun i v2457 k0_hw160 k0_h1 => k0_hw160.2.1 k0_h1
theorem k0_off320_inb : ∀ (i : grid0.Coords) (v2457 : BitVec 32) (k0_hw160 : k0_chk160 i v2457), ∀ (k0_h1 : k0_cond1 i = 1#1), ∀ a, (k0_off320 v2457) a + S1x128.size a ≤ S8192x128.size a := fun i v2457 k0_hw160 k0_h1 => k0_hw160.2.2 k0_h1

def k0_mult161 (v2472 : BitVec 32) : BitVec 32 :=
  let c3_i32_1324 : BitVec 32 := 3#32
  let v2473 : BitVec 32 := Scalar.shrsi v2472 c3_i32_1324
  let c8191_i32_1325 : BitVec 32 := 8191#32
  let v2474 : BitVec 32 := Scalar.andi v2473 c8191_i32_1325
  let c8_i32_1326 : BitVec 32 := 8#32
  let v2475 : BitVec 32 := Scalar.muli v2474 c8_i32_1326
  v2475

def k0_off321 (v2472 : BitVec 32) : Fin 2 → Nat :=
  let c3_i32_1324 : BitVec 32 := 3#32
  let v2473 : BitVec 32 := Scalar.shrsi v2472 c3_i32_1324
  let c8191_i32_1325 : BitVec 32 := 8191#32
  let v2474 : BitVec 32 := Scalar.andi v2473 c8191_i32_1325
  let c8_i32_1326 : BitVec 32 := 8#32
  let v2475 : BitVec 32 := Scalar.muli v2474 c8_i32_1326
  let v2476 : BitVec 32 := v2475
  let v2477 : Index := Scalar.indexCast v2476
  let c0_1327 : Index := 0#32
  ![v2477.toNat, 0]
def k0_off322 (v2472 : BitVec 32) : Fin 2 → Nat :=
  let c3_i32_1324 : BitVec 32 := 3#32
  let v2473 : BitVec 32 := Scalar.shrsi v2472 c3_i32_1324
  let c8191_i32_1325 : BitVec 32 := 8191#32
  let v2474 : BitVec 32 := Scalar.andi v2473 c8191_i32_1325
  let v2482 : Index := Scalar.indexCast v2474
  let c0_1329 : Index := 0#32
  ![v2482.toNat, 0]

def k0_chk161 (i : grid0.Coords) (v2472 : BitVec 32) : Prop :=
  (∀ (k0_h1 : k0_cond1 i = 1#1), 8 ∣ (k0_mult161 v2472).toNat) ∧
  (∀ (k0_h1 : k0_cond1 i = 1#1), ∀ a, (k0_off321 v2472) a + S8x128.size a ≤ S65536x128.size a) ∧
  (∀ (k0_h1 : k0_cond1 i = 1#1), ∀ a, (k0_off322 v2472) a + S1x128.size a ≤ S8192x128.size a)
theorem k0_mult161_dvd : ∀ (i : grid0.Coords) (v2472 : BitVec 32) (k0_hw161 : k0_chk161 i v2472), ∀ (k0_h1 : k0_cond1 i = 1#1), 8 ∣ (k0_mult161 v2472).toNat := fun i v2472 k0_hw161 k0_h1 => k0_hw161.1 k0_h1
theorem k0_off321_inb : ∀ (i : grid0.Coords) (v2472 : BitVec 32) (k0_hw161 : k0_chk161 i v2472), ∀ (k0_h1 : k0_cond1 i = 1#1), ∀ a, (k0_off321 v2472) a + S8x128.size a ≤ S65536x128.size a := fun i v2472 k0_hw161 k0_h1 => k0_hw161.2.1 k0_h1
theorem k0_off322_inb : ∀ (i : grid0.Coords) (v2472 : BitVec 32) (k0_hw161 : k0_chk161 i v2472), ∀ (k0_h1 : k0_cond1 i = 1#1), ∀ a, (k0_off322 v2472) a + S1x128.size a ≤ S8192x128.size a := fun i v2472 k0_hw161 k0_h1 => k0_hw161.2.2 k0_h1

def k0_mult162 (v2487 : BitVec 32) : BitVec 32 :=
  let c3_i32_1332 : BitVec 32 := 3#32
  let v2488 : BitVec 32 := Scalar.shrsi v2487 c3_i32_1332
  let c8191_i32_1333 : BitVec 32 := 8191#32
  let v2489 : BitVec 32 := Scalar.andi v2488 c8191_i32_1333
  let c8_i32_1334 : BitVec 32 := 8#32
  let v2490 : BitVec 32 := Scalar.muli v2489 c8_i32_1334
  v2490

def k0_off323 (v2487 : BitVec 32) : Fin 2 → Nat :=
  let c3_i32_1332 : BitVec 32 := 3#32
  let v2488 : BitVec 32 := Scalar.shrsi v2487 c3_i32_1332
  let c8191_i32_1333 : BitVec 32 := 8191#32
  let v2489 : BitVec 32 := Scalar.andi v2488 c8191_i32_1333
  let c8_i32_1334 : BitVec 32 := 8#32
  let v2490 : BitVec 32 := Scalar.muli v2489 c8_i32_1334
  let v2491 : BitVec 32 := v2490
  let v2492 : Index := Scalar.indexCast v2491
  let c0_1335 : Index := 0#32
  ![v2492.toNat, 0]
def k0_off324 (v2487 : BitVec 32) : Fin 2 → Nat :=
  let c3_i32_1332 : BitVec 32 := 3#32
  let v2488 : BitVec 32 := Scalar.shrsi v2487 c3_i32_1332
  let c8191_i32_1333 : BitVec 32 := 8191#32
  let v2489 : BitVec 32 := Scalar.andi v2488 c8191_i32_1333
  let v2497 : Index := Scalar.indexCast v2489
  let c0_1337 : Index := 0#32
  ![v2497.toNat, 0]

def k0_chk162 (i : grid0.Coords) (v2487 : BitVec 32) : Prop :=
  (∀ (k0_h1 : k0_cond1 i = 1#1), 8 ∣ (k0_mult162 v2487).toNat) ∧
  (∀ (k0_h1 : k0_cond1 i = 1#1), ∀ a, (k0_off323 v2487) a + S8x128.size a ≤ S65536x128.size a) ∧
  (∀ (k0_h1 : k0_cond1 i = 1#1), ∀ a, (k0_off324 v2487) a + S1x128.size a ≤ S8192x128.size a)
theorem k0_mult162_dvd : ∀ (i : grid0.Coords) (v2487 : BitVec 32) (k0_hw162 : k0_chk162 i v2487), ∀ (k0_h1 : k0_cond1 i = 1#1), 8 ∣ (k0_mult162 v2487).toNat := fun i v2487 k0_hw162 k0_h1 => k0_hw162.1 k0_h1
theorem k0_off323_inb : ∀ (i : grid0.Coords) (v2487 : BitVec 32) (k0_hw162 : k0_chk162 i v2487), ∀ (k0_h1 : k0_cond1 i = 1#1), ∀ a, (k0_off323 v2487) a + S8x128.size a ≤ S65536x128.size a := fun i v2487 k0_hw162 k0_h1 => k0_hw162.2.1 k0_h1
theorem k0_off324_inb : ∀ (i : grid0.Coords) (v2487 : BitVec 32) (k0_hw162 : k0_chk162 i v2487), ∀ (k0_h1 : k0_cond1 i = 1#1), ∀ a, (k0_off324 v2487) a + S1x128.size a ≤ S8192x128.size a := fun i v2487 k0_hw162 k0_h1 => k0_hw162.2.2 k0_h1

def k0_mult163 (v2502 : BitVec 32) : BitVec 32 :=
  let c3_i32_1340 : BitVec 32 := 3#32
  let v2503 : BitVec 32 := Scalar.shrsi v2502 c3_i32_1340
  let c8191_i32_1341 : BitVec 32 := 8191#32
  let v2504 : BitVec 32 := Scalar.andi v2503 c8191_i32_1341
  let c8_i32_1342 : BitVec 32 := 8#32
  let v2505 : BitVec 32 := Scalar.muli v2504 c8_i32_1342
  v2505

def k0_off325 (v2502 : BitVec 32) : Fin 2 → Nat :=
  let c3_i32_1340 : BitVec 32 := 3#32
  let v2503 : BitVec 32 := Scalar.shrsi v2502 c3_i32_1340
  let c8191_i32_1341 : BitVec 32 := 8191#32
  let v2504 : BitVec 32 := Scalar.andi v2503 c8191_i32_1341
  let c8_i32_1342 : BitVec 32 := 8#32
  let v2505 : BitVec 32 := Scalar.muli v2504 c8_i32_1342
  let v2506 : BitVec 32 := v2505
  let v2507 : Index := Scalar.indexCast v2506
  let c0_1343 : Index := 0#32
  ![v2507.toNat, 0]
def k0_off326 (v2502 : BitVec 32) : Fin 2 → Nat :=
  let c3_i32_1340 : BitVec 32 := 3#32
  let v2503 : BitVec 32 := Scalar.shrsi v2502 c3_i32_1340
  let c8191_i32_1341 : BitVec 32 := 8191#32
  let v2504 : BitVec 32 := Scalar.andi v2503 c8191_i32_1341
  let v2512 : Index := Scalar.indexCast v2504
  let c0_1345 : Index := 0#32
  ![v2512.toNat, 0]

def k0_chk163 (i : grid0.Coords) (v2502 : BitVec 32) : Prop :=
  (∀ (k0_h1 : k0_cond1 i = 1#1), 8 ∣ (k0_mult163 v2502).toNat) ∧
  (∀ (k0_h1 : k0_cond1 i = 1#1), ∀ a, (k0_off325 v2502) a + S8x128.size a ≤ S65536x128.size a) ∧
  (∀ (k0_h1 : k0_cond1 i = 1#1), ∀ a, (k0_off326 v2502) a + S1x128.size a ≤ S8192x128.size a)
theorem k0_mult163_dvd : ∀ (i : grid0.Coords) (v2502 : BitVec 32) (k0_hw163 : k0_chk163 i v2502), ∀ (k0_h1 : k0_cond1 i = 1#1), 8 ∣ (k0_mult163 v2502).toNat := fun i v2502 k0_hw163 k0_h1 => k0_hw163.1 k0_h1
theorem k0_off325_inb : ∀ (i : grid0.Coords) (v2502 : BitVec 32) (k0_hw163 : k0_chk163 i v2502), ∀ (k0_h1 : k0_cond1 i = 1#1), ∀ a, (k0_off325 v2502) a + S8x128.size a ≤ S65536x128.size a := fun i v2502 k0_hw163 k0_h1 => k0_hw163.2.1 k0_h1
theorem k0_off326_inb : ∀ (i : grid0.Coords) (v2502 : BitVec 32) (k0_hw163 : k0_chk163 i v2502), ∀ (k0_h1 : k0_cond1 i = 1#1), ∀ a, (k0_off326 v2502) a + S1x128.size a ≤ S8192x128.size a := fun i v2502 k0_hw163 k0_h1 => k0_hw163.2.2 k0_h1

def k0_mult164 (v2517 : BitVec 32) : BitVec 32 :=
  let c3_i32_1348 : BitVec 32 := 3#32
  let v2518 : BitVec 32 := Scalar.shrsi v2517 c3_i32_1348
  let c8191_i32_1349 : BitVec 32 := 8191#32
  let v2519 : BitVec 32 := Scalar.andi v2518 c8191_i32_1349
  let c8_i32_1350 : BitVec 32 := 8#32
  let v2520 : BitVec 32 := Scalar.muli v2519 c8_i32_1350
  v2520

def k0_off327 (v2517 : BitVec 32) : Fin 2 → Nat :=
  let c3_i32_1348 : BitVec 32 := 3#32
  let v2518 : BitVec 32 := Scalar.shrsi v2517 c3_i32_1348
  let c8191_i32_1349 : BitVec 32 := 8191#32
  let v2519 : BitVec 32 := Scalar.andi v2518 c8191_i32_1349
  let c8_i32_1350 : BitVec 32 := 8#32
  let v2520 : BitVec 32 := Scalar.muli v2519 c8_i32_1350
  let v2521 : BitVec 32 := v2520
  let v2522 : Index := Scalar.indexCast v2521
  let c0_1351 : Index := 0#32
  ![v2522.toNat, 0]
def k0_off328 (v2517 : BitVec 32) : Fin 2 → Nat :=
  let c3_i32_1348 : BitVec 32 := 3#32
  let v2518 : BitVec 32 := Scalar.shrsi v2517 c3_i32_1348
  let c8191_i32_1349 : BitVec 32 := 8191#32
  let v2519 : BitVec 32 := Scalar.andi v2518 c8191_i32_1349
  let v2527 : Index := Scalar.indexCast v2519
  let c0_1353 : Index := 0#32
  ![v2527.toNat, 0]

def k0_chk164 (i : grid0.Coords) (v2517 : BitVec 32) : Prop :=
  (∀ (k0_h1 : k0_cond1 i = 1#1), 8 ∣ (k0_mult164 v2517).toNat) ∧
  (∀ (k0_h1 : k0_cond1 i = 1#1), ∀ a, (k0_off327 v2517) a + S8x128.size a ≤ S65536x128.size a) ∧
  (∀ (k0_h1 : k0_cond1 i = 1#1), ∀ a, (k0_off328 v2517) a + S1x128.size a ≤ S8192x128.size a)
theorem k0_mult164_dvd : ∀ (i : grid0.Coords) (v2517 : BitVec 32) (k0_hw164 : k0_chk164 i v2517), ∀ (k0_h1 : k0_cond1 i = 1#1), 8 ∣ (k0_mult164 v2517).toNat := fun i v2517 k0_hw164 k0_h1 => k0_hw164.1 k0_h1
theorem k0_off327_inb : ∀ (i : grid0.Coords) (v2517 : BitVec 32) (k0_hw164 : k0_chk164 i v2517), ∀ (k0_h1 : k0_cond1 i = 1#1), ∀ a, (k0_off327 v2517) a + S8x128.size a ≤ S65536x128.size a := fun i v2517 k0_hw164 k0_h1 => k0_hw164.2.1 k0_h1
theorem k0_off328_inb : ∀ (i : grid0.Coords) (v2517 : BitVec 32) (k0_hw164 : k0_chk164 i v2517), ∀ (k0_h1 : k0_cond1 i = 1#1), ∀ a, (k0_off328 v2517) a + S1x128.size a ≤ S8192x128.size a := fun i v2517 k0_hw164 k0_h1 => k0_hw164.2.2 k0_h1

def k0_mult165 (v2532 : BitVec 32) : BitVec 32 :=
  let c3_i32_1356 : BitVec 32 := 3#32
  let v2533 : BitVec 32 := Scalar.shrsi v2532 c3_i32_1356
  let c8191_i32_1357 : BitVec 32 := 8191#32
  let v2534 : BitVec 32 := Scalar.andi v2533 c8191_i32_1357
  let c8_i32_1358 : BitVec 32 := 8#32
  let v2535 : BitVec 32 := Scalar.muli v2534 c8_i32_1358
  v2535

def k0_off329 (v2532 : BitVec 32) : Fin 2 → Nat :=
  let c3_i32_1356 : BitVec 32 := 3#32
  let v2533 : BitVec 32 := Scalar.shrsi v2532 c3_i32_1356
  let c8191_i32_1357 : BitVec 32 := 8191#32
  let v2534 : BitVec 32 := Scalar.andi v2533 c8191_i32_1357
  let c8_i32_1358 : BitVec 32 := 8#32
  let v2535 : BitVec 32 := Scalar.muli v2534 c8_i32_1358
  let v2536 : BitVec 32 := v2535
  let v2537 : Index := Scalar.indexCast v2536
  let c0_1359 : Index := 0#32
  ![v2537.toNat, 0]
def k0_off330 (v2532 : BitVec 32) : Fin 2 → Nat :=
  let c3_i32_1356 : BitVec 32 := 3#32
  let v2533 : BitVec 32 := Scalar.shrsi v2532 c3_i32_1356
  let c8191_i32_1357 : BitVec 32 := 8191#32
  let v2534 : BitVec 32 := Scalar.andi v2533 c8191_i32_1357
  let v2542 : Index := Scalar.indexCast v2534
  let c0_1361 : Index := 0#32
  ![v2542.toNat, 0]

def k0_chk165 (i : grid0.Coords) (v2532 : BitVec 32) : Prop :=
  (∀ (k0_h1 : k0_cond1 i = 1#1), 8 ∣ (k0_mult165 v2532).toNat) ∧
  (∀ (k0_h1 : k0_cond1 i = 1#1), ∀ a, (k0_off329 v2532) a + S8x128.size a ≤ S65536x128.size a) ∧
  (∀ (k0_h1 : k0_cond1 i = 1#1), ∀ a, (k0_off330 v2532) a + S1x128.size a ≤ S8192x128.size a)
theorem k0_mult165_dvd : ∀ (i : grid0.Coords) (v2532 : BitVec 32) (k0_hw165 : k0_chk165 i v2532), ∀ (k0_h1 : k0_cond1 i = 1#1), 8 ∣ (k0_mult165 v2532).toNat := fun i v2532 k0_hw165 k0_h1 => k0_hw165.1 k0_h1
theorem k0_off329_inb : ∀ (i : grid0.Coords) (v2532 : BitVec 32) (k0_hw165 : k0_chk165 i v2532), ∀ (k0_h1 : k0_cond1 i = 1#1), ∀ a, (k0_off329 v2532) a + S8x128.size a ≤ S65536x128.size a := fun i v2532 k0_hw165 k0_h1 => k0_hw165.2.1 k0_h1
theorem k0_off330_inb : ∀ (i : grid0.Coords) (v2532 : BitVec 32) (k0_hw165 : k0_chk165 i v2532), ∀ (k0_h1 : k0_cond1 i = 1#1), ∀ a, (k0_off330 v2532) a + S1x128.size a ≤ S8192x128.size a := fun i v2532 k0_hw165 k0_h1 => k0_hw165.2.2 k0_h1

def k0_mult166 (v2547 : BitVec 32) : BitVec 32 :=
  let c3_i32_1364 : BitVec 32 := 3#32
  let v2548 : BitVec 32 := Scalar.shrsi v2547 c3_i32_1364
  let c8191_i32_1365 : BitVec 32 := 8191#32
  let v2549 : BitVec 32 := Scalar.andi v2548 c8191_i32_1365
  let c8_i32_1366 : BitVec 32 := 8#32
  let v2550 : BitVec 32 := Scalar.muli v2549 c8_i32_1366
  v2550

def k0_off331 (v2547 : BitVec 32) : Fin 2 → Nat :=
  let c3_i32_1364 : BitVec 32 := 3#32
  let v2548 : BitVec 32 := Scalar.shrsi v2547 c3_i32_1364
  let c8191_i32_1365 : BitVec 32 := 8191#32
  let v2549 : BitVec 32 := Scalar.andi v2548 c8191_i32_1365
  let c8_i32_1366 : BitVec 32 := 8#32
  let v2550 : BitVec 32 := Scalar.muli v2549 c8_i32_1366
  let v2551 : BitVec 32 := v2550
  let v2552 : Index := Scalar.indexCast v2551
  let c0_1367 : Index := 0#32
  ![v2552.toNat, 0]
def k0_off332 (v2547 : BitVec 32) : Fin 2 → Nat :=
  let c3_i32_1364 : BitVec 32 := 3#32
  let v2548 : BitVec 32 := Scalar.shrsi v2547 c3_i32_1364
  let c8191_i32_1365 : BitVec 32 := 8191#32
  let v2549 : BitVec 32 := Scalar.andi v2548 c8191_i32_1365
  let v2557 : Index := Scalar.indexCast v2549
  let c0_1369 : Index := 0#32
  ![v2557.toNat, 0]

def k0_chk166 (i : grid0.Coords) (v2547 : BitVec 32) : Prop :=
  (∀ (k0_h1 : k0_cond1 i = 1#1), 8 ∣ (k0_mult166 v2547).toNat) ∧
  (∀ (k0_h1 : k0_cond1 i = 1#1), ∀ a, (k0_off331 v2547) a + S8x128.size a ≤ S65536x128.size a) ∧
  (∀ (k0_h1 : k0_cond1 i = 1#1), ∀ a, (k0_off332 v2547) a + S1x128.size a ≤ S8192x128.size a)
theorem k0_mult166_dvd : ∀ (i : grid0.Coords) (v2547 : BitVec 32) (k0_hw166 : k0_chk166 i v2547), ∀ (k0_h1 : k0_cond1 i = 1#1), 8 ∣ (k0_mult166 v2547).toNat := fun i v2547 k0_hw166 k0_h1 => k0_hw166.1 k0_h1
theorem k0_off331_inb : ∀ (i : grid0.Coords) (v2547 : BitVec 32) (k0_hw166 : k0_chk166 i v2547), ∀ (k0_h1 : k0_cond1 i = 1#1), ∀ a, (k0_off331 v2547) a + S8x128.size a ≤ S65536x128.size a := fun i v2547 k0_hw166 k0_h1 => k0_hw166.2.1 k0_h1
theorem k0_off332_inb : ∀ (i : grid0.Coords) (v2547 : BitVec 32) (k0_hw166 : k0_chk166 i v2547), ∀ (k0_h1 : k0_cond1 i = 1#1), ∀ a, (k0_off332 v2547) a + S1x128.size a ≤ S8192x128.size a := fun i v2547 k0_hw166 k0_h1 => k0_hw166.2.2 k0_h1

def k0_mult167 (v2562 : BitVec 32) : BitVec 32 :=
  let c3_i32_1372 : BitVec 32 := 3#32
  let v2563 : BitVec 32 := Scalar.shrsi v2562 c3_i32_1372
  let c8191_i32_1373 : BitVec 32 := 8191#32
  let v2564 : BitVec 32 := Scalar.andi v2563 c8191_i32_1373
  let c8_i32_1374 : BitVec 32 := 8#32
  let v2565 : BitVec 32 := Scalar.muli v2564 c8_i32_1374
  v2565

def k0_off333 (v2562 : BitVec 32) : Fin 2 → Nat :=
  let c3_i32_1372 : BitVec 32 := 3#32
  let v2563 : BitVec 32 := Scalar.shrsi v2562 c3_i32_1372
  let c8191_i32_1373 : BitVec 32 := 8191#32
  let v2564 : BitVec 32 := Scalar.andi v2563 c8191_i32_1373
  let c8_i32_1374 : BitVec 32 := 8#32
  let v2565 : BitVec 32 := Scalar.muli v2564 c8_i32_1374
  let v2566 : BitVec 32 := v2565
  let v2567 : Index := Scalar.indexCast v2566
  let c0_1375 : Index := 0#32
  ![v2567.toNat, 0]
def k0_off334 (v2562 : BitVec 32) : Fin 2 → Nat :=
  let c3_i32_1372 : BitVec 32 := 3#32
  let v2563 : BitVec 32 := Scalar.shrsi v2562 c3_i32_1372
  let c8191_i32_1373 : BitVec 32 := 8191#32
  let v2564 : BitVec 32 := Scalar.andi v2563 c8191_i32_1373
  let v2572 : Index := Scalar.indexCast v2564
  let c0_1377 : Index := 0#32
  ![v2572.toNat, 0]

def k0_chk167 (i : grid0.Coords) (v2562 : BitVec 32) : Prop :=
  (∀ (k0_h1 : k0_cond1 i = 1#1), 8 ∣ (k0_mult167 v2562).toNat) ∧
  (∀ (k0_h1 : k0_cond1 i = 1#1), ∀ a, (k0_off333 v2562) a + S8x128.size a ≤ S65536x128.size a) ∧
  (∀ (k0_h1 : k0_cond1 i = 1#1), ∀ a, (k0_off334 v2562) a + S1x128.size a ≤ S8192x128.size a)
theorem k0_mult167_dvd : ∀ (i : grid0.Coords) (v2562 : BitVec 32) (k0_hw167 : k0_chk167 i v2562), ∀ (k0_h1 : k0_cond1 i = 1#1), 8 ∣ (k0_mult167 v2562).toNat := fun i v2562 k0_hw167 k0_h1 => k0_hw167.1 k0_h1
theorem k0_off333_inb : ∀ (i : grid0.Coords) (v2562 : BitVec 32) (k0_hw167 : k0_chk167 i v2562), ∀ (k0_h1 : k0_cond1 i = 1#1), ∀ a, (k0_off333 v2562) a + S8x128.size a ≤ S65536x128.size a := fun i v2562 k0_hw167 k0_h1 => k0_hw167.2.1 k0_h1
theorem k0_off334_inb : ∀ (i : grid0.Coords) (v2562 : BitVec 32) (k0_hw167 : k0_chk167 i v2562), ∀ (k0_h1 : k0_cond1 i = 1#1), ∀ a, (k0_off334 v2562) a + S1x128.size a ≤ S8192x128.size a := fun i v2562 k0_hw167 k0_h1 => k0_hw167.2.2 k0_h1

def k0_mult168 (v2577 : BitVec 32) : BitVec 32 :=
  let c3_i32_1380 : BitVec 32 := 3#32
  let v2578 : BitVec 32 := Scalar.shrsi v2577 c3_i32_1380
  let c8191_i32_1381 : BitVec 32 := 8191#32
  let v2579 : BitVec 32 := Scalar.andi v2578 c8191_i32_1381
  let c8_i32_1382 : BitVec 32 := 8#32
  let v2580 : BitVec 32 := Scalar.muli v2579 c8_i32_1382
  v2580

def k0_off335 (v2577 : BitVec 32) : Fin 2 → Nat :=
  let c3_i32_1380 : BitVec 32 := 3#32
  let v2578 : BitVec 32 := Scalar.shrsi v2577 c3_i32_1380
  let c8191_i32_1381 : BitVec 32 := 8191#32
  let v2579 : BitVec 32 := Scalar.andi v2578 c8191_i32_1381
  let c8_i32_1382 : BitVec 32 := 8#32
  let v2580 : BitVec 32 := Scalar.muli v2579 c8_i32_1382
  let v2581 : BitVec 32 := v2580
  let v2582 : Index := Scalar.indexCast v2581
  let c0_1383 : Index := 0#32
  ![v2582.toNat, 0]
def k0_off336 (v2577 : BitVec 32) : Fin 2 → Nat :=
  let c3_i32_1380 : BitVec 32 := 3#32
  let v2578 : BitVec 32 := Scalar.shrsi v2577 c3_i32_1380
  let c8191_i32_1381 : BitVec 32 := 8191#32
  let v2579 : BitVec 32 := Scalar.andi v2578 c8191_i32_1381
  let v2587 : Index := Scalar.indexCast v2579
  let c0_1385 : Index := 0#32
  ![v2587.toNat, 0]

def k0_chk168 (i : grid0.Coords) (v2577 : BitVec 32) : Prop :=
  (∀ (k0_h1 : k0_cond1 i = 1#1), 8 ∣ (k0_mult168 v2577).toNat) ∧
  (∀ (k0_h1 : k0_cond1 i = 1#1), ∀ a, (k0_off335 v2577) a + S8x128.size a ≤ S65536x128.size a) ∧
  (∀ (k0_h1 : k0_cond1 i = 1#1), ∀ a, (k0_off336 v2577) a + S1x128.size a ≤ S8192x128.size a)
theorem k0_mult168_dvd : ∀ (i : grid0.Coords) (v2577 : BitVec 32) (k0_hw168 : k0_chk168 i v2577), ∀ (k0_h1 : k0_cond1 i = 1#1), 8 ∣ (k0_mult168 v2577).toNat := fun i v2577 k0_hw168 k0_h1 => k0_hw168.1 k0_h1
theorem k0_off335_inb : ∀ (i : grid0.Coords) (v2577 : BitVec 32) (k0_hw168 : k0_chk168 i v2577), ∀ (k0_h1 : k0_cond1 i = 1#1), ∀ a, (k0_off335 v2577) a + S8x128.size a ≤ S65536x128.size a := fun i v2577 k0_hw168 k0_h1 => k0_hw168.2.1 k0_h1
theorem k0_off336_inb : ∀ (i : grid0.Coords) (v2577 : BitVec 32) (k0_hw168 : k0_chk168 i v2577), ∀ (k0_h1 : k0_cond1 i = 1#1), ∀ a, (k0_off336 v2577) a + S1x128.size a ≤ S8192x128.size a := fun i v2577 k0_hw168 k0_h1 => k0_hw168.2.2 k0_h1

def k0_mult169 (v2592 : BitVec 32) : BitVec 32 :=
  let c3_i32_1389 : BitVec 32 := 3#32
  let v2593 : BitVec 32 := Scalar.shrsi v2592 c3_i32_1389
  let c8191_i32_1390 : BitVec 32 := 8191#32
  let v2594 : BitVec 32 := Scalar.andi v2593 c8191_i32_1390
  let c8_i32_1391 : BitVec 32 := 8#32
  let v2595 : BitVec 32 := Scalar.muli v2594 c8_i32_1391
  v2595

def k0_off337 (v2592 : BitVec 32) : Fin 2 → Nat :=
  let c3_i32_1389 : BitVec 32 := 3#32
  let v2593 : BitVec 32 := Scalar.shrsi v2592 c3_i32_1389
  let c8191_i32_1390 : BitVec 32 := 8191#32
  let v2594 : BitVec 32 := Scalar.andi v2593 c8191_i32_1390
  let c8_i32_1391 : BitVec 32 := 8#32
  let v2595 : BitVec 32 := Scalar.muli v2594 c8_i32_1391
  let v2596 : BitVec 32 := v2595
  let v2597 : Index := Scalar.indexCast v2596
  let c0_1392 : Index := 0#32
  ![v2597.toNat, 0]
def k0_off338 (v2592 : BitVec 32) : Fin 2 → Nat :=
  let c3_i32_1389 : BitVec 32 := 3#32
  let v2593 : BitVec 32 := Scalar.shrsi v2592 c3_i32_1389
  let c8191_i32_1390 : BitVec 32 := 8191#32
  let v2594 : BitVec 32 := Scalar.andi v2593 c8191_i32_1390
  let v2602 : Index := Scalar.indexCast v2594
  let c0_1394 : Index := 0#32
  ![v2602.toNat, 0]

def k0_chk169 (i : grid0.Coords) (v2592 : BitVec 32) : Prop :=
  (∀ (k0_h1 : k0_cond1 i = 1#1), 8 ∣ (k0_mult169 v2592).toNat) ∧
  (∀ (k0_h1 : k0_cond1 i = 1#1), ∀ a, (k0_off337 v2592) a + S8x128.size a ≤ S65536x128.size a) ∧
  (∀ (k0_h1 : k0_cond1 i = 1#1), ∀ a, (k0_off338 v2592) a + S1x128.size a ≤ S8192x128.size a)
theorem k0_mult169_dvd : ∀ (i : grid0.Coords) (v2592 : BitVec 32) (k0_hw169 : k0_chk169 i v2592), ∀ (k0_h1 : k0_cond1 i = 1#1), 8 ∣ (k0_mult169 v2592).toNat := fun i v2592 k0_hw169 k0_h1 => k0_hw169.1 k0_h1
theorem k0_off337_inb : ∀ (i : grid0.Coords) (v2592 : BitVec 32) (k0_hw169 : k0_chk169 i v2592), ∀ (k0_h1 : k0_cond1 i = 1#1), ∀ a, (k0_off337 v2592) a + S8x128.size a ≤ S65536x128.size a := fun i v2592 k0_hw169 k0_h1 => k0_hw169.2.1 k0_h1
theorem k0_off338_inb : ∀ (i : grid0.Coords) (v2592 : BitVec 32) (k0_hw169 : k0_chk169 i v2592), ∀ (k0_h1 : k0_cond1 i = 1#1), ∀ a, (k0_off338 v2592) a + S1x128.size a ≤ S8192x128.size a := fun i v2592 k0_hw169 k0_h1 => k0_hw169.2.2 k0_h1

def k0_mult170 (v2607 : BitVec 32) : BitVec 32 :=
  let c3_i32_1397 : BitVec 32 := 3#32
  let v2608 : BitVec 32 := Scalar.shrsi v2607 c3_i32_1397
  let c8191_i32_1398 : BitVec 32 := 8191#32
  let v2609 : BitVec 32 := Scalar.andi v2608 c8191_i32_1398
  let c8_i32_1399 : BitVec 32 := 8#32
  let v2610 : BitVec 32 := Scalar.muli v2609 c8_i32_1399
  v2610

def k0_off339 (v2607 : BitVec 32) : Fin 2 → Nat :=
  let c3_i32_1397 : BitVec 32 := 3#32
  let v2608 : BitVec 32 := Scalar.shrsi v2607 c3_i32_1397
  let c8191_i32_1398 : BitVec 32 := 8191#32
  let v2609 : BitVec 32 := Scalar.andi v2608 c8191_i32_1398
  let c8_i32_1399 : BitVec 32 := 8#32
  let v2610 : BitVec 32 := Scalar.muli v2609 c8_i32_1399
  let v2611 : BitVec 32 := v2610
  let v2612 : Index := Scalar.indexCast v2611
  let c0_1400 : Index := 0#32
  ![v2612.toNat, 0]
def k0_off340 (v2607 : BitVec 32) : Fin 2 → Nat :=
  let c3_i32_1397 : BitVec 32 := 3#32
  let v2608 : BitVec 32 := Scalar.shrsi v2607 c3_i32_1397
  let c8191_i32_1398 : BitVec 32 := 8191#32
  let v2609 : BitVec 32 := Scalar.andi v2608 c8191_i32_1398
  let v2617 : Index := Scalar.indexCast v2609
  let c0_1402 : Index := 0#32
  ![v2617.toNat, 0]

def k0_chk170 (i : grid0.Coords) (v2607 : BitVec 32) : Prop :=
  (∀ (k0_h1 : k0_cond1 i = 1#1), 8 ∣ (k0_mult170 v2607).toNat) ∧
  (∀ (k0_h1 : k0_cond1 i = 1#1), ∀ a, (k0_off339 v2607) a + S8x128.size a ≤ S65536x128.size a) ∧
  (∀ (k0_h1 : k0_cond1 i = 1#1), ∀ a, (k0_off340 v2607) a + S1x128.size a ≤ S8192x128.size a)
theorem k0_mult170_dvd : ∀ (i : grid0.Coords) (v2607 : BitVec 32) (k0_hw170 : k0_chk170 i v2607), ∀ (k0_h1 : k0_cond1 i = 1#1), 8 ∣ (k0_mult170 v2607).toNat := fun i v2607 k0_hw170 k0_h1 => k0_hw170.1 k0_h1
theorem k0_off339_inb : ∀ (i : grid0.Coords) (v2607 : BitVec 32) (k0_hw170 : k0_chk170 i v2607), ∀ (k0_h1 : k0_cond1 i = 1#1), ∀ a, (k0_off339 v2607) a + S8x128.size a ≤ S65536x128.size a := fun i v2607 k0_hw170 k0_h1 => k0_hw170.2.1 k0_h1
theorem k0_off340_inb : ∀ (i : grid0.Coords) (v2607 : BitVec 32) (k0_hw170 : k0_chk170 i v2607), ∀ (k0_h1 : k0_cond1 i = 1#1), ∀ a, (k0_off340 v2607) a + S1x128.size a ≤ S8192x128.size a := fun i v2607 k0_hw170 k0_h1 => k0_hw170.2.2 k0_h1

def k0_mult171 (v2622 : BitVec 32) : BitVec 32 :=
  let c3_i32_1405 : BitVec 32 := 3#32
  let v2623 : BitVec 32 := Scalar.shrsi v2622 c3_i32_1405
  let c8191_i32_1406 : BitVec 32 := 8191#32
  let v2624 : BitVec 32 := Scalar.andi v2623 c8191_i32_1406
  let c8_i32_1407 : BitVec 32 := 8#32
  let v2625 : BitVec 32 := Scalar.muli v2624 c8_i32_1407
  v2625

def k0_off341 (v2622 : BitVec 32) : Fin 2 → Nat :=
  let c3_i32_1405 : BitVec 32 := 3#32
  let v2623 : BitVec 32 := Scalar.shrsi v2622 c3_i32_1405
  let c8191_i32_1406 : BitVec 32 := 8191#32
  let v2624 : BitVec 32 := Scalar.andi v2623 c8191_i32_1406
  let c8_i32_1407 : BitVec 32 := 8#32
  let v2625 : BitVec 32 := Scalar.muli v2624 c8_i32_1407
  let v2626 : BitVec 32 := v2625
  let v2627 : Index := Scalar.indexCast v2626
  let c0_1408 : Index := 0#32
  ![v2627.toNat, 0]
def k0_off342 (v2622 : BitVec 32) : Fin 2 → Nat :=
  let c3_i32_1405 : BitVec 32 := 3#32
  let v2623 : BitVec 32 := Scalar.shrsi v2622 c3_i32_1405
  let c8191_i32_1406 : BitVec 32 := 8191#32
  let v2624 : BitVec 32 := Scalar.andi v2623 c8191_i32_1406
  let v2632 : Index := Scalar.indexCast v2624
  let c0_1410 : Index := 0#32
  ![v2632.toNat, 0]

def k0_chk171 (i : grid0.Coords) (v2622 : BitVec 32) : Prop :=
  (∀ (k0_h1 : k0_cond1 i = 1#1), 8 ∣ (k0_mult171 v2622).toNat) ∧
  (∀ (k0_h1 : k0_cond1 i = 1#1), ∀ a, (k0_off341 v2622) a + S8x128.size a ≤ S65536x128.size a) ∧
  (∀ (k0_h1 : k0_cond1 i = 1#1), ∀ a, (k0_off342 v2622) a + S1x128.size a ≤ S8192x128.size a)
theorem k0_mult171_dvd : ∀ (i : grid0.Coords) (v2622 : BitVec 32) (k0_hw171 : k0_chk171 i v2622), ∀ (k0_h1 : k0_cond1 i = 1#1), 8 ∣ (k0_mult171 v2622).toNat := fun i v2622 k0_hw171 k0_h1 => k0_hw171.1 k0_h1
theorem k0_off341_inb : ∀ (i : grid0.Coords) (v2622 : BitVec 32) (k0_hw171 : k0_chk171 i v2622), ∀ (k0_h1 : k0_cond1 i = 1#1), ∀ a, (k0_off341 v2622) a + S8x128.size a ≤ S65536x128.size a := fun i v2622 k0_hw171 k0_h1 => k0_hw171.2.1 k0_h1
theorem k0_off342_inb : ∀ (i : grid0.Coords) (v2622 : BitVec 32) (k0_hw171 : k0_chk171 i v2622), ∀ (k0_h1 : k0_cond1 i = 1#1), ∀ a, (k0_off342 v2622) a + S1x128.size a ≤ S8192x128.size a := fun i v2622 k0_hw171 k0_h1 => k0_hw171.2.2 k0_h1

def k0_mult172 (v2637 : BitVec 32) : BitVec 32 :=
  let c3_i32_1413 : BitVec 32 := 3#32
  let v2638 : BitVec 32 := Scalar.shrsi v2637 c3_i32_1413
  let c8191_i32_1414 : BitVec 32 := 8191#32
  let v2639 : BitVec 32 := Scalar.andi v2638 c8191_i32_1414
  let c8_i32_1415 : BitVec 32 := 8#32
  let v2640 : BitVec 32 := Scalar.muli v2639 c8_i32_1415
  v2640

def k0_off343 (v2637 : BitVec 32) : Fin 2 → Nat :=
  let c3_i32_1413 : BitVec 32 := 3#32
  let v2638 : BitVec 32 := Scalar.shrsi v2637 c3_i32_1413
  let c8191_i32_1414 : BitVec 32 := 8191#32
  let v2639 : BitVec 32 := Scalar.andi v2638 c8191_i32_1414
  let c8_i32_1415 : BitVec 32 := 8#32
  let v2640 : BitVec 32 := Scalar.muli v2639 c8_i32_1415
  let v2641 : BitVec 32 := v2640
  let v2642 : Index := Scalar.indexCast v2641
  let c0_1416 : Index := 0#32
  ![v2642.toNat, 0]
def k0_off344 (v2637 : BitVec 32) : Fin 2 → Nat :=
  let c3_i32_1413 : BitVec 32 := 3#32
  let v2638 : BitVec 32 := Scalar.shrsi v2637 c3_i32_1413
  let c8191_i32_1414 : BitVec 32 := 8191#32
  let v2639 : BitVec 32 := Scalar.andi v2638 c8191_i32_1414
  let v2647 : Index := Scalar.indexCast v2639
  let c0_1418 : Index := 0#32
  ![v2647.toNat, 0]

def k0_chk172 (i : grid0.Coords) (v2637 : BitVec 32) : Prop :=
  (∀ (k0_h1 : k0_cond1 i = 1#1), 8 ∣ (k0_mult172 v2637).toNat) ∧
  (∀ (k0_h1 : k0_cond1 i = 1#1), ∀ a, (k0_off343 v2637) a + S8x128.size a ≤ S65536x128.size a) ∧
  (∀ (k0_h1 : k0_cond1 i = 1#1), ∀ a, (k0_off344 v2637) a + S1x128.size a ≤ S8192x128.size a)
theorem k0_mult172_dvd : ∀ (i : grid0.Coords) (v2637 : BitVec 32) (k0_hw172 : k0_chk172 i v2637), ∀ (k0_h1 : k0_cond1 i = 1#1), 8 ∣ (k0_mult172 v2637).toNat := fun i v2637 k0_hw172 k0_h1 => k0_hw172.1 k0_h1
theorem k0_off343_inb : ∀ (i : grid0.Coords) (v2637 : BitVec 32) (k0_hw172 : k0_chk172 i v2637), ∀ (k0_h1 : k0_cond1 i = 1#1), ∀ a, (k0_off343 v2637) a + S8x128.size a ≤ S65536x128.size a := fun i v2637 k0_hw172 k0_h1 => k0_hw172.2.1 k0_h1
theorem k0_off344_inb : ∀ (i : grid0.Coords) (v2637 : BitVec 32) (k0_hw172 : k0_chk172 i v2637), ∀ (k0_h1 : k0_cond1 i = 1#1), ∀ a, (k0_off344 v2637) a + S1x128.size a ≤ S8192x128.size a := fun i v2637 k0_hw172 k0_h1 => k0_hw172.2.2 k0_h1

def k0_mult173 (v2652 : BitVec 32) : BitVec 32 :=
  let c3_i32_1421 : BitVec 32 := 3#32
  let v2653 : BitVec 32 := Scalar.shrsi v2652 c3_i32_1421
  let c8191_i32_1422 : BitVec 32 := 8191#32
  let v2654 : BitVec 32 := Scalar.andi v2653 c8191_i32_1422
  let c8_i32_1423 : BitVec 32 := 8#32
  let v2655 : BitVec 32 := Scalar.muli v2654 c8_i32_1423
  v2655

def k0_off345 (v2652 : BitVec 32) : Fin 2 → Nat :=
  let c3_i32_1421 : BitVec 32 := 3#32
  let v2653 : BitVec 32 := Scalar.shrsi v2652 c3_i32_1421
  let c8191_i32_1422 : BitVec 32 := 8191#32
  let v2654 : BitVec 32 := Scalar.andi v2653 c8191_i32_1422
  let c8_i32_1423 : BitVec 32 := 8#32
  let v2655 : BitVec 32 := Scalar.muli v2654 c8_i32_1423
  let v2656 : BitVec 32 := v2655
  let v2657 : Index := Scalar.indexCast v2656
  let c0_1424 : Index := 0#32
  ![v2657.toNat, 0]
def k0_off346 (v2652 : BitVec 32) : Fin 2 → Nat :=
  let c3_i32_1421 : BitVec 32 := 3#32
  let v2653 : BitVec 32 := Scalar.shrsi v2652 c3_i32_1421
  let c8191_i32_1422 : BitVec 32 := 8191#32
  let v2654 : BitVec 32 := Scalar.andi v2653 c8191_i32_1422
  let v2662 : Index := Scalar.indexCast v2654
  let c0_1426 : Index := 0#32
  ![v2662.toNat, 0]

def k0_chk173 (i : grid0.Coords) (v2652 : BitVec 32) : Prop :=
  (∀ (k0_h1 : k0_cond1 i = 1#1), 8 ∣ (k0_mult173 v2652).toNat) ∧
  (∀ (k0_h1 : k0_cond1 i = 1#1), ∀ a, (k0_off345 v2652) a + S8x128.size a ≤ S65536x128.size a) ∧
  (∀ (k0_h1 : k0_cond1 i = 1#1), ∀ a, (k0_off346 v2652) a + S1x128.size a ≤ S8192x128.size a)
theorem k0_mult173_dvd : ∀ (i : grid0.Coords) (v2652 : BitVec 32) (k0_hw173 : k0_chk173 i v2652), ∀ (k0_h1 : k0_cond1 i = 1#1), 8 ∣ (k0_mult173 v2652).toNat := fun i v2652 k0_hw173 k0_h1 => k0_hw173.1 k0_h1
theorem k0_off345_inb : ∀ (i : grid0.Coords) (v2652 : BitVec 32) (k0_hw173 : k0_chk173 i v2652), ∀ (k0_h1 : k0_cond1 i = 1#1), ∀ a, (k0_off345 v2652) a + S8x128.size a ≤ S65536x128.size a := fun i v2652 k0_hw173 k0_h1 => k0_hw173.2.1 k0_h1
theorem k0_off346_inb : ∀ (i : grid0.Coords) (v2652 : BitVec 32) (k0_hw173 : k0_chk173 i v2652), ∀ (k0_h1 : k0_cond1 i = 1#1), ∀ a, (k0_off346 v2652) a + S1x128.size a ≤ S8192x128.size a := fun i v2652 k0_hw173 k0_h1 => k0_hw173.2.2 k0_h1

def k0_mult174 (v2667 : BitVec 32) : BitVec 32 :=
  let c3_i32_1429 : BitVec 32 := 3#32
  let v2668 : BitVec 32 := Scalar.shrsi v2667 c3_i32_1429
  let c8191_i32_1430 : BitVec 32 := 8191#32
  let v2669 : BitVec 32 := Scalar.andi v2668 c8191_i32_1430
  let c8_i32_1431 : BitVec 32 := 8#32
  let v2670 : BitVec 32 := Scalar.muli v2669 c8_i32_1431
  v2670

def k0_off347 (v2667 : BitVec 32) : Fin 2 → Nat :=
  let c3_i32_1429 : BitVec 32 := 3#32
  let v2668 : BitVec 32 := Scalar.shrsi v2667 c3_i32_1429
  let c8191_i32_1430 : BitVec 32 := 8191#32
  let v2669 : BitVec 32 := Scalar.andi v2668 c8191_i32_1430
  let c8_i32_1431 : BitVec 32 := 8#32
  let v2670 : BitVec 32 := Scalar.muli v2669 c8_i32_1431
  let v2671 : BitVec 32 := v2670
  let v2672 : Index := Scalar.indexCast v2671
  let c0_1432 : Index := 0#32
  ![v2672.toNat, 0]
def k0_off348 (v2667 : BitVec 32) : Fin 2 → Nat :=
  let c3_i32_1429 : BitVec 32 := 3#32
  let v2668 : BitVec 32 := Scalar.shrsi v2667 c3_i32_1429
  let c8191_i32_1430 : BitVec 32 := 8191#32
  let v2669 : BitVec 32 := Scalar.andi v2668 c8191_i32_1430
  let v2677 : Index := Scalar.indexCast v2669
  let c0_1434 : Index := 0#32
  ![v2677.toNat, 0]

def k0_chk174 (i : grid0.Coords) (v2667 : BitVec 32) : Prop :=
  (∀ (k0_h1 : k0_cond1 i = 1#1), 8 ∣ (k0_mult174 v2667).toNat) ∧
  (∀ (k0_h1 : k0_cond1 i = 1#1), ∀ a, (k0_off347 v2667) a + S8x128.size a ≤ S65536x128.size a) ∧
  (∀ (k0_h1 : k0_cond1 i = 1#1), ∀ a, (k0_off348 v2667) a + S1x128.size a ≤ S8192x128.size a)
theorem k0_mult174_dvd : ∀ (i : grid0.Coords) (v2667 : BitVec 32) (k0_hw174 : k0_chk174 i v2667), ∀ (k0_h1 : k0_cond1 i = 1#1), 8 ∣ (k0_mult174 v2667).toNat := fun i v2667 k0_hw174 k0_h1 => k0_hw174.1 k0_h1
theorem k0_off347_inb : ∀ (i : grid0.Coords) (v2667 : BitVec 32) (k0_hw174 : k0_chk174 i v2667), ∀ (k0_h1 : k0_cond1 i = 1#1), ∀ a, (k0_off347 v2667) a + S8x128.size a ≤ S65536x128.size a := fun i v2667 k0_hw174 k0_h1 => k0_hw174.2.1 k0_h1
theorem k0_off348_inb : ∀ (i : grid0.Coords) (v2667 : BitVec 32) (k0_hw174 : k0_chk174 i v2667), ∀ (k0_h1 : k0_cond1 i = 1#1), ∀ a, (k0_off348 v2667) a + S1x128.size a ≤ S8192x128.size a := fun i v2667 k0_hw174 k0_h1 => k0_hw174.2.2 k0_h1

def k0_mult175 (v2682 : BitVec 32) : BitVec 32 :=
  let c3_i32_1437 : BitVec 32 := 3#32
  let v2683 : BitVec 32 := Scalar.shrsi v2682 c3_i32_1437
  let c8191_i32_1438 : BitVec 32 := 8191#32
  let v2684 : BitVec 32 := Scalar.andi v2683 c8191_i32_1438
  let c8_i32_1439 : BitVec 32 := 8#32
  let v2685 : BitVec 32 := Scalar.muli v2684 c8_i32_1439
  v2685

def k0_off349 (v2682 : BitVec 32) : Fin 2 → Nat :=
  let c3_i32_1437 : BitVec 32 := 3#32
  let v2683 : BitVec 32 := Scalar.shrsi v2682 c3_i32_1437
  let c8191_i32_1438 : BitVec 32 := 8191#32
  let v2684 : BitVec 32 := Scalar.andi v2683 c8191_i32_1438
  let c8_i32_1439 : BitVec 32 := 8#32
  let v2685 : BitVec 32 := Scalar.muli v2684 c8_i32_1439
  let v2686 : BitVec 32 := v2685
  let v2687 : Index := Scalar.indexCast v2686
  let c0_1440 : Index := 0#32
  ![v2687.toNat, 0]
def k0_off350 (v2682 : BitVec 32) : Fin 2 → Nat :=
  let c3_i32_1437 : BitVec 32 := 3#32
  let v2683 : BitVec 32 := Scalar.shrsi v2682 c3_i32_1437
  let c8191_i32_1438 : BitVec 32 := 8191#32
  let v2684 : BitVec 32 := Scalar.andi v2683 c8191_i32_1438
  let v2692 : Index := Scalar.indexCast v2684
  let c0_1442 : Index := 0#32
  ![v2692.toNat, 0]

def k0_chk175 (i : grid0.Coords) (v2682 : BitVec 32) : Prop :=
  (∀ (k0_h1 : k0_cond1 i = 1#1), 8 ∣ (k0_mult175 v2682).toNat) ∧
  (∀ (k0_h1 : k0_cond1 i = 1#1), ∀ a, (k0_off349 v2682) a + S8x128.size a ≤ S65536x128.size a) ∧
  (∀ (k0_h1 : k0_cond1 i = 1#1), ∀ a, (k0_off350 v2682) a + S1x128.size a ≤ S8192x128.size a)
theorem k0_mult175_dvd : ∀ (i : grid0.Coords) (v2682 : BitVec 32) (k0_hw175 : k0_chk175 i v2682), ∀ (k0_h1 : k0_cond1 i = 1#1), 8 ∣ (k0_mult175 v2682).toNat := fun i v2682 k0_hw175 k0_h1 => k0_hw175.1 k0_h1
theorem k0_off349_inb : ∀ (i : grid0.Coords) (v2682 : BitVec 32) (k0_hw175 : k0_chk175 i v2682), ∀ (k0_h1 : k0_cond1 i = 1#1), ∀ a, (k0_off349 v2682) a + S8x128.size a ≤ S65536x128.size a := fun i v2682 k0_hw175 k0_h1 => k0_hw175.2.1 k0_h1
theorem k0_off350_inb : ∀ (i : grid0.Coords) (v2682 : BitVec 32) (k0_hw175 : k0_chk175 i v2682), ∀ (k0_h1 : k0_cond1 i = 1#1), ∀ a, (k0_off350 v2682) a + S1x128.size a ≤ S8192x128.size a := fun i v2682 k0_hw175 k0_h1 => k0_hw175.2.2 k0_h1

def k0_mult176 (v2697 : BitVec 32) : BitVec 32 :=
  let c3_i32_1445 : BitVec 32 := 3#32
  let v2698 : BitVec 32 := Scalar.shrsi v2697 c3_i32_1445
  let c8191_i32_1446 : BitVec 32 := 8191#32
  let v2699 : BitVec 32 := Scalar.andi v2698 c8191_i32_1446
  let c8_i32_1447 : BitVec 32 := 8#32
  let v2700 : BitVec 32 := Scalar.muli v2699 c8_i32_1447
  v2700

def k0_off351 (v2697 : BitVec 32) : Fin 2 → Nat :=
  let c3_i32_1445 : BitVec 32 := 3#32
  let v2698 : BitVec 32 := Scalar.shrsi v2697 c3_i32_1445
  let c8191_i32_1446 : BitVec 32 := 8191#32
  let v2699 : BitVec 32 := Scalar.andi v2698 c8191_i32_1446
  let c8_i32_1447 : BitVec 32 := 8#32
  let v2700 : BitVec 32 := Scalar.muli v2699 c8_i32_1447
  let v2701 : BitVec 32 := v2700
  let v2702 : Index := Scalar.indexCast v2701
  let c0_1448 : Index := 0#32
  ![v2702.toNat, 0]
def k0_off352 (v2697 : BitVec 32) : Fin 2 → Nat :=
  let c3_i32_1445 : BitVec 32 := 3#32
  let v2698 : BitVec 32 := Scalar.shrsi v2697 c3_i32_1445
  let c8191_i32_1446 : BitVec 32 := 8191#32
  let v2699 : BitVec 32 := Scalar.andi v2698 c8191_i32_1446
  let v2707 : Index := Scalar.indexCast v2699
  let c0_1450 : Index := 0#32
  ![v2707.toNat, 0]

def k0_chk176 (i : grid0.Coords) (v2697 : BitVec 32) : Prop :=
  (∀ (k0_h1 : k0_cond1 i = 1#1), 8 ∣ (k0_mult176 v2697).toNat) ∧
  (∀ (k0_h1 : k0_cond1 i = 1#1), ∀ a, (k0_off351 v2697) a + S8x128.size a ≤ S65536x128.size a) ∧
  (∀ (k0_h1 : k0_cond1 i = 1#1), ∀ a, (k0_off352 v2697) a + S1x128.size a ≤ S8192x128.size a)
theorem k0_mult176_dvd : ∀ (i : grid0.Coords) (v2697 : BitVec 32) (k0_hw176 : k0_chk176 i v2697), ∀ (k0_h1 : k0_cond1 i = 1#1), 8 ∣ (k0_mult176 v2697).toNat := fun i v2697 k0_hw176 k0_h1 => k0_hw176.1 k0_h1
theorem k0_off351_inb : ∀ (i : grid0.Coords) (v2697 : BitVec 32) (k0_hw176 : k0_chk176 i v2697), ∀ (k0_h1 : k0_cond1 i = 1#1), ∀ a, (k0_off351 v2697) a + S8x128.size a ≤ S65536x128.size a := fun i v2697 k0_hw176 k0_h1 => k0_hw176.2.1 k0_h1
theorem k0_off352_inb : ∀ (i : grid0.Coords) (v2697 : BitVec 32) (k0_hw176 : k0_chk176 i v2697), ∀ (k0_h1 : k0_cond1 i = 1#1), ∀ a, (k0_off352 v2697) a + S1x128.size a ≤ S8192x128.size a := fun i v2697 k0_hw176 k0_h1 => k0_hw176.2.2 k0_h1

def k0_mult177 (v2712 : BitVec 32) : BitVec 32 :=
  let c3_i32_1454 : BitVec 32 := 3#32
  let v2713 : BitVec 32 := Scalar.shrsi v2712 c3_i32_1454
  let c8191_i32_1455 : BitVec 32 := 8191#32
  let v2714 : BitVec 32 := Scalar.andi v2713 c8191_i32_1455
  let c8_i32_1456 : BitVec 32 := 8#32
  let v2715 : BitVec 32 := Scalar.muli v2714 c8_i32_1456
  v2715

def k0_off353 (v2712 : BitVec 32) : Fin 2 → Nat :=
  let c3_i32_1454 : BitVec 32 := 3#32
  let v2713 : BitVec 32 := Scalar.shrsi v2712 c3_i32_1454
  let c8191_i32_1455 : BitVec 32 := 8191#32
  let v2714 : BitVec 32 := Scalar.andi v2713 c8191_i32_1455
  let c8_i32_1456 : BitVec 32 := 8#32
  let v2715 : BitVec 32 := Scalar.muli v2714 c8_i32_1456
  let v2716 : BitVec 32 := v2715
  let v2717 : Index := Scalar.indexCast v2716
  let c0_1457 : Index := 0#32
  ![v2717.toNat, 0]
def k0_off354 (v2712 : BitVec 32) : Fin 2 → Nat :=
  let c3_i32_1454 : BitVec 32 := 3#32
  let v2713 : BitVec 32 := Scalar.shrsi v2712 c3_i32_1454
  let c8191_i32_1455 : BitVec 32 := 8191#32
  let v2714 : BitVec 32 := Scalar.andi v2713 c8191_i32_1455
  let v2722 : Index := Scalar.indexCast v2714
  let c0_1459 : Index := 0#32
  ![v2722.toNat, 0]

def k0_chk177 (i : grid0.Coords) (v2712 : BitVec 32) : Prop :=
  (∀ (k0_h1 : k0_cond1 i = 1#1), 8 ∣ (k0_mult177 v2712).toNat) ∧
  (∀ (k0_h1 : k0_cond1 i = 1#1), ∀ a, (k0_off353 v2712) a + S8x128.size a ≤ S65536x128.size a) ∧
  (∀ (k0_h1 : k0_cond1 i = 1#1), ∀ a, (k0_off354 v2712) a + S1x128.size a ≤ S8192x128.size a)
theorem k0_mult177_dvd : ∀ (i : grid0.Coords) (v2712 : BitVec 32) (k0_hw177 : k0_chk177 i v2712), ∀ (k0_h1 : k0_cond1 i = 1#1), 8 ∣ (k0_mult177 v2712).toNat := fun i v2712 k0_hw177 k0_h1 => k0_hw177.1 k0_h1
theorem k0_off353_inb : ∀ (i : grid0.Coords) (v2712 : BitVec 32) (k0_hw177 : k0_chk177 i v2712), ∀ (k0_h1 : k0_cond1 i = 1#1), ∀ a, (k0_off353 v2712) a + S8x128.size a ≤ S65536x128.size a := fun i v2712 k0_hw177 k0_h1 => k0_hw177.2.1 k0_h1
theorem k0_off354_inb : ∀ (i : grid0.Coords) (v2712 : BitVec 32) (k0_hw177 : k0_chk177 i v2712), ∀ (k0_h1 : k0_cond1 i = 1#1), ∀ a, (k0_off354 v2712) a + S1x128.size a ≤ S8192x128.size a := fun i v2712 k0_hw177 k0_h1 => k0_hw177.2.2 k0_h1

def k0_mult178 (v2727 : BitVec 32) : BitVec 32 :=
  let c3_i32_1462 : BitVec 32 := 3#32
  let v2728 : BitVec 32 := Scalar.shrsi v2727 c3_i32_1462
  let c8191_i32_1463 : BitVec 32 := 8191#32
  let v2729 : BitVec 32 := Scalar.andi v2728 c8191_i32_1463
  let c8_i32_1464 : BitVec 32 := 8#32
  let v2730 : BitVec 32 := Scalar.muli v2729 c8_i32_1464
  v2730

def k0_off355 (v2727 : BitVec 32) : Fin 2 → Nat :=
  let c3_i32_1462 : BitVec 32 := 3#32
  let v2728 : BitVec 32 := Scalar.shrsi v2727 c3_i32_1462
  let c8191_i32_1463 : BitVec 32 := 8191#32
  let v2729 : BitVec 32 := Scalar.andi v2728 c8191_i32_1463
  let c8_i32_1464 : BitVec 32 := 8#32
  let v2730 : BitVec 32 := Scalar.muli v2729 c8_i32_1464
  let v2731 : BitVec 32 := v2730
  let v2732 : Index := Scalar.indexCast v2731
  let c0_1465 : Index := 0#32
  ![v2732.toNat, 0]
def k0_off356 (v2727 : BitVec 32) : Fin 2 → Nat :=
  let c3_i32_1462 : BitVec 32 := 3#32
  let v2728 : BitVec 32 := Scalar.shrsi v2727 c3_i32_1462
  let c8191_i32_1463 : BitVec 32 := 8191#32
  let v2729 : BitVec 32 := Scalar.andi v2728 c8191_i32_1463
  let v2737 : Index := Scalar.indexCast v2729
  let c0_1467 : Index := 0#32
  ![v2737.toNat, 0]

def k0_chk178 (i : grid0.Coords) (v2727 : BitVec 32) : Prop :=
  (∀ (k0_h1 : k0_cond1 i = 1#1), 8 ∣ (k0_mult178 v2727).toNat) ∧
  (∀ (k0_h1 : k0_cond1 i = 1#1), ∀ a, (k0_off355 v2727) a + S8x128.size a ≤ S65536x128.size a) ∧
  (∀ (k0_h1 : k0_cond1 i = 1#1), ∀ a, (k0_off356 v2727) a + S1x128.size a ≤ S8192x128.size a)
theorem k0_mult178_dvd : ∀ (i : grid0.Coords) (v2727 : BitVec 32) (k0_hw178 : k0_chk178 i v2727), ∀ (k0_h1 : k0_cond1 i = 1#1), 8 ∣ (k0_mult178 v2727).toNat := fun i v2727 k0_hw178 k0_h1 => k0_hw178.1 k0_h1
theorem k0_off355_inb : ∀ (i : grid0.Coords) (v2727 : BitVec 32) (k0_hw178 : k0_chk178 i v2727), ∀ (k0_h1 : k0_cond1 i = 1#1), ∀ a, (k0_off355 v2727) a + S8x128.size a ≤ S65536x128.size a := fun i v2727 k0_hw178 k0_h1 => k0_hw178.2.1 k0_h1
theorem k0_off356_inb : ∀ (i : grid0.Coords) (v2727 : BitVec 32) (k0_hw178 : k0_chk178 i v2727), ∀ (k0_h1 : k0_cond1 i = 1#1), ∀ a, (k0_off356 v2727) a + S1x128.size a ≤ S8192x128.size a := fun i v2727 k0_hw178 k0_h1 => k0_hw178.2.2 k0_h1

def k0_mult179 (v2742 : BitVec 32) : BitVec 32 :=
  let c3_i32_1470 : BitVec 32 := 3#32
  let v2743 : BitVec 32 := Scalar.shrsi v2742 c3_i32_1470
  let c8191_i32_1471 : BitVec 32 := 8191#32
  let v2744 : BitVec 32 := Scalar.andi v2743 c8191_i32_1471
  let c8_i32_1472 : BitVec 32 := 8#32
  let v2745 : BitVec 32 := Scalar.muli v2744 c8_i32_1472
  v2745

def k0_off357 (v2742 : BitVec 32) : Fin 2 → Nat :=
  let c3_i32_1470 : BitVec 32 := 3#32
  let v2743 : BitVec 32 := Scalar.shrsi v2742 c3_i32_1470
  let c8191_i32_1471 : BitVec 32 := 8191#32
  let v2744 : BitVec 32 := Scalar.andi v2743 c8191_i32_1471
  let c8_i32_1472 : BitVec 32 := 8#32
  let v2745 : BitVec 32 := Scalar.muli v2744 c8_i32_1472
  let v2746 : BitVec 32 := v2745
  let v2747 : Index := Scalar.indexCast v2746
  let c0_1473 : Index := 0#32
  ![v2747.toNat, 0]
def k0_off358 (v2742 : BitVec 32) : Fin 2 → Nat :=
  let c3_i32_1470 : BitVec 32 := 3#32
  let v2743 : BitVec 32 := Scalar.shrsi v2742 c3_i32_1470
  let c8191_i32_1471 : BitVec 32 := 8191#32
  let v2744 : BitVec 32 := Scalar.andi v2743 c8191_i32_1471
  let v2752 : Index := Scalar.indexCast v2744
  let c0_1475 : Index := 0#32
  ![v2752.toNat, 0]

def k0_chk179 (i : grid0.Coords) (v2742 : BitVec 32) : Prop :=
  (∀ (k0_h1 : k0_cond1 i = 1#1), 8 ∣ (k0_mult179 v2742).toNat) ∧
  (∀ (k0_h1 : k0_cond1 i = 1#1), ∀ a, (k0_off357 v2742) a + S8x128.size a ≤ S65536x128.size a) ∧
  (∀ (k0_h1 : k0_cond1 i = 1#1), ∀ a, (k0_off358 v2742) a + S1x128.size a ≤ S8192x128.size a)
theorem k0_mult179_dvd : ∀ (i : grid0.Coords) (v2742 : BitVec 32) (k0_hw179 : k0_chk179 i v2742), ∀ (k0_h1 : k0_cond1 i = 1#1), 8 ∣ (k0_mult179 v2742).toNat := fun i v2742 k0_hw179 k0_h1 => k0_hw179.1 k0_h1
theorem k0_off357_inb : ∀ (i : grid0.Coords) (v2742 : BitVec 32) (k0_hw179 : k0_chk179 i v2742), ∀ (k0_h1 : k0_cond1 i = 1#1), ∀ a, (k0_off357 v2742) a + S8x128.size a ≤ S65536x128.size a := fun i v2742 k0_hw179 k0_h1 => k0_hw179.2.1 k0_h1
theorem k0_off358_inb : ∀ (i : grid0.Coords) (v2742 : BitVec 32) (k0_hw179 : k0_chk179 i v2742), ∀ (k0_h1 : k0_cond1 i = 1#1), ∀ a, (k0_off358 v2742) a + S1x128.size a ≤ S8192x128.size a := fun i v2742 k0_hw179 k0_h1 => k0_hw179.2.2 k0_h1

def k0_mult180 (v2757 : BitVec 32) : BitVec 32 :=
  let c3_i32_1478 : BitVec 32 := 3#32
  let v2758 : BitVec 32 := Scalar.shrsi v2757 c3_i32_1478
  let c8191_i32_1479 : BitVec 32 := 8191#32
  let v2759 : BitVec 32 := Scalar.andi v2758 c8191_i32_1479
  let c8_i32_1480 : BitVec 32 := 8#32
  let v2760 : BitVec 32 := Scalar.muli v2759 c8_i32_1480
  v2760

def k0_off359 (v2757 : BitVec 32) : Fin 2 → Nat :=
  let c3_i32_1478 : BitVec 32 := 3#32
  let v2758 : BitVec 32 := Scalar.shrsi v2757 c3_i32_1478
  let c8191_i32_1479 : BitVec 32 := 8191#32
  let v2759 : BitVec 32 := Scalar.andi v2758 c8191_i32_1479
  let c8_i32_1480 : BitVec 32 := 8#32
  let v2760 : BitVec 32 := Scalar.muli v2759 c8_i32_1480
  let v2761 : BitVec 32 := v2760
  let v2762 : Index := Scalar.indexCast v2761
  let c0_1481 : Index := 0#32
  ![v2762.toNat, 0]
def k0_off360 (v2757 : BitVec 32) : Fin 2 → Nat :=
  let c3_i32_1478 : BitVec 32 := 3#32
  let v2758 : BitVec 32 := Scalar.shrsi v2757 c3_i32_1478
  let c8191_i32_1479 : BitVec 32 := 8191#32
  let v2759 : BitVec 32 := Scalar.andi v2758 c8191_i32_1479
  let v2767 : Index := Scalar.indexCast v2759
  let c0_1483 : Index := 0#32
  ![v2767.toNat, 0]

def k0_chk180 (i : grid0.Coords) (v2757 : BitVec 32) : Prop :=
  (∀ (k0_h1 : k0_cond1 i = 1#1), 8 ∣ (k0_mult180 v2757).toNat) ∧
  (∀ (k0_h1 : k0_cond1 i = 1#1), ∀ a, (k0_off359 v2757) a + S8x128.size a ≤ S65536x128.size a) ∧
  (∀ (k0_h1 : k0_cond1 i = 1#1), ∀ a, (k0_off360 v2757) a + S1x128.size a ≤ S8192x128.size a)
theorem k0_mult180_dvd : ∀ (i : grid0.Coords) (v2757 : BitVec 32) (k0_hw180 : k0_chk180 i v2757), ∀ (k0_h1 : k0_cond1 i = 1#1), 8 ∣ (k0_mult180 v2757).toNat := fun i v2757 k0_hw180 k0_h1 => k0_hw180.1 k0_h1
theorem k0_off359_inb : ∀ (i : grid0.Coords) (v2757 : BitVec 32) (k0_hw180 : k0_chk180 i v2757), ∀ (k0_h1 : k0_cond1 i = 1#1), ∀ a, (k0_off359 v2757) a + S8x128.size a ≤ S65536x128.size a := fun i v2757 k0_hw180 k0_h1 => k0_hw180.2.1 k0_h1
theorem k0_off360_inb : ∀ (i : grid0.Coords) (v2757 : BitVec 32) (k0_hw180 : k0_chk180 i v2757), ∀ (k0_h1 : k0_cond1 i = 1#1), ∀ a, (k0_off360 v2757) a + S1x128.size a ≤ S8192x128.size a := fun i v2757 k0_hw180 k0_h1 => k0_hw180.2.2 k0_h1

def k0_mult181 (v2772 : BitVec 32) : BitVec 32 :=
  let c3_i32_1486 : BitVec 32 := 3#32
  let v2773 : BitVec 32 := Scalar.shrsi v2772 c3_i32_1486
  let c8191_i32_1487 : BitVec 32 := 8191#32
  let v2774 : BitVec 32 := Scalar.andi v2773 c8191_i32_1487
  let c8_i32_1488 : BitVec 32 := 8#32
  let v2775 : BitVec 32 := Scalar.muli v2774 c8_i32_1488
  v2775

def k0_off361 (v2772 : BitVec 32) : Fin 2 → Nat :=
  let c3_i32_1486 : BitVec 32 := 3#32
  let v2773 : BitVec 32 := Scalar.shrsi v2772 c3_i32_1486
  let c8191_i32_1487 : BitVec 32 := 8191#32
  let v2774 : BitVec 32 := Scalar.andi v2773 c8191_i32_1487
  let c8_i32_1488 : BitVec 32 := 8#32
  let v2775 : BitVec 32 := Scalar.muli v2774 c8_i32_1488
  let v2776 : BitVec 32 := v2775
  let v2777 : Index := Scalar.indexCast v2776
  let c0_1489 : Index := 0#32
  ![v2777.toNat, 0]
def k0_off362 (v2772 : BitVec 32) : Fin 2 → Nat :=
  let c3_i32_1486 : BitVec 32 := 3#32
  let v2773 : BitVec 32 := Scalar.shrsi v2772 c3_i32_1486
  let c8191_i32_1487 : BitVec 32 := 8191#32
  let v2774 : BitVec 32 := Scalar.andi v2773 c8191_i32_1487
  let v2782 : Index := Scalar.indexCast v2774
  let c0_1491 : Index := 0#32
  ![v2782.toNat, 0]

def k0_chk181 (i : grid0.Coords) (v2772 : BitVec 32) : Prop :=
  (∀ (k0_h1 : k0_cond1 i = 1#1), 8 ∣ (k0_mult181 v2772).toNat) ∧
  (∀ (k0_h1 : k0_cond1 i = 1#1), ∀ a, (k0_off361 v2772) a + S8x128.size a ≤ S65536x128.size a) ∧
  (∀ (k0_h1 : k0_cond1 i = 1#1), ∀ a, (k0_off362 v2772) a + S1x128.size a ≤ S8192x128.size a)
theorem k0_mult181_dvd : ∀ (i : grid0.Coords) (v2772 : BitVec 32) (k0_hw181 : k0_chk181 i v2772), ∀ (k0_h1 : k0_cond1 i = 1#1), 8 ∣ (k0_mult181 v2772).toNat := fun i v2772 k0_hw181 k0_h1 => k0_hw181.1 k0_h1
theorem k0_off361_inb : ∀ (i : grid0.Coords) (v2772 : BitVec 32) (k0_hw181 : k0_chk181 i v2772), ∀ (k0_h1 : k0_cond1 i = 1#1), ∀ a, (k0_off361 v2772) a + S8x128.size a ≤ S65536x128.size a := fun i v2772 k0_hw181 k0_h1 => k0_hw181.2.1 k0_h1
theorem k0_off362_inb : ∀ (i : grid0.Coords) (v2772 : BitVec 32) (k0_hw181 : k0_chk181 i v2772), ∀ (k0_h1 : k0_cond1 i = 1#1), ∀ a, (k0_off362 v2772) a + S1x128.size a ≤ S8192x128.size a := fun i v2772 k0_hw181 k0_h1 => k0_hw181.2.2 k0_h1

def k0_mult182 (v2787 : BitVec 32) : BitVec 32 :=
  let c3_i32_1494 : BitVec 32 := 3#32
  let v2788 : BitVec 32 := Scalar.shrsi v2787 c3_i32_1494
  let c8191_i32_1495 : BitVec 32 := 8191#32
  let v2789 : BitVec 32 := Scalar.andi v2788 c8191_i32_1495
  let c8_i32_1496 : BitVec 32 := 8#32
  let v2790 : BitVec 32 := Scalar.muli v2789 c8_i32_1496
  v2790

def k0_off363 (v2787 : BitVec 32) : Fin 2 → Nat :=
  let c3_i32_1494 : BitVec 32 := 3#32
  let v2788 : BitVec 32 := Scalar.shrsi v2787 c3_i32_1494
  let c8191_i32_1495 : BitVec 32 := 8191#32
  let v2789 : BitVec 32 := Scalar.andi v2788 c8191_i32_1495
  let c8_i32_1496 : BitVec 32 := 8#32
  let v2790 : BitVec 32 := Scalar.muli v2789 c8_i32_1496
  let v2791 : BitVec 32 := v2790
  let v2792 : Index := Scalar.indexCast v2791
  let c0_1497 : Index := 0#32
  ![v2792.toNat, 0]
def k0_off364 (v2787 : BitVec 32) : Fin 2 → Nat :=
  let c3_i32_1494 : BitVec 32 := 3#32
  let v2788 : BitVec 32 := Scalar.shrsi v2787 c3_i32_1494
  let c8191_i32_1495 : BitVec 32 := 8191#32
  let v2789 : BitVec 32 := Scalar.andi v2788 c8191_i32_1495
  let v2797 : Index := Scalar.indexCast v2789
  let c0_1499 : Index := 0#32
  ![v2797.toNat, 0]

def k0_chk182 (i : grid0.Coords) (v2787 : BitVec 32) : Prop :=
  (∀ (k0_h1 : k0_cond1 i = 1#1), 8 ∣ (k0_mult182 v2787).toNat) ∧
  (∀ (k0_h1 : k0_cond1 i = 1#1), ∀ a, (k0_off363 v2787) a + S8x128.size a ≤ S65536x128.size a) ∧
  (∀ (k0_h1 : k0_cond1 i = 1#1), ∀ a, (k0_off364 v2787) a + S1x128.size a ≤ S8192x128.size a)
theorem k0_mult182_dvd : ∀ (i : grid0.Coords) (v2787 : BitVec 32) (k0_hw182 : k0_chk182 i v2787), ∀ (k0_h1 : k0_cond1 i = 1#1), 8 ∣ (k0_mult182 v2787).toNat := fun i v2787 k0_hw182 k0_h1 => k0_hw182.1 k0_h1
theorem k0_off363_inb : ∀ (i : grid0.Coords) (v2787 : BitVec 32) (k0_hw182 : k0_chk182 i v2787), ∀ (k0_h1 : k0_cond1 i = 1#1), ∀ a, (k0_off363 v2787) a + S8x128.size a ≤ S65536x128.size a := fun i v2787 k0_hw182 k0_h1 => k0_hw182.2.1 k0_h1
theorem k0_off364_inb : ∀ (i : grid0.Coords) (v2787 : BitVec 32) (k0_hw182 : k0_chk182 i v2787), ∀ (k0_h1 : k0_cond1 i = 1#1), ∀ a, (k0_off364 v2787) a + S1x128.size a ≤ S8192x128.size a := fun i v2787 k0_hw182 k0_h1 => k0_hw182.2.2 k0_h1

def k0_mult183 (v2802 : BitVec 32) : BitVec 32 :=
  let c3_i32_1502 : BitVec 32 := 3#32
  let v2803 : BitVec 32 := Scalar.shrsi v2802 c3_i32_1502
  let c8191_i32_1503 : BitVec 32 := 8191#32
  let v2804 : BitVec 32 := Scalar.andi v2803 c8191_i32_1503
  let c8_i32_1504 : BitVec 32 := 8#32
  let v2805 : BitVec 32 := Scalar.muli v2804 c8_i32_1504
  v2805

def k0_off365 (v2802 : BitVec 32) : Fin 2 → Nat :=
  let c3_i32_1502 : BitVec 32 := 3#32
  let v2803 : BitVec 32 := Scalar.shrsi v2802 c3_i32_1502
  let c8191_i32_1503 : BitVec 32 := 8191#32
  let v2804 : BitVec 32 := Scalar.andi v2803 c8191_i32_1503
  let c8_i32_1504 : BitVec 32 := 8#32
  let v2805 : BitVec 32 := Scalar.muli v2804 c8_i32_1504
  let v2806 : BitVec 32 := v2805
  let v2807 : Index := Scalar.indexCast v2806
  let c0_1505 : Index := 0#32
  ![v2807.toNat, 0]
def k0_off366 (v2802 : BitVec 32) : Fin 2 → Nat :=
  let c3_i32_1502 : BitVec 32 := 3#32
  let v2803 : BitVec 32 := Scalar.shrsi v2802 c3_i32_1502
  let c8191_i32_1503 : BitVec 32 := 8191#32
  let v2804 : BitVec 32 := Scalar.andi v2803 c8191_i32_1503
  let v2812 : Index := Scalar.indexCast v2804
  let c0_1507 : Index := 0#32
  ![v2812.toNat, 0]

def k0_chk183 (i : grid0.Coords) (v2802 : BitVec 32) : Prop :=
  (∀ (k0_h1 : k0_cond1 i = 1#1), 8 ∣ (k0_mult183 v2802).toNat) ∧
  (∀ (k0_h1 : k0_cond1 i = 1#1), ∀ a, (k0_off365 v2802) a + S8x128.size a ≤ S65536x128.size a) ∧
  (∀ (k0_h1 : k0_cond1 i = 1#1), ∀ a, (k0_off366 v2802) a + S1x128.size a ≤ S8192x128.size a)
theorem k0_mult183_dvd : ∀ (i : grid0.Coords) (v2802 : BitVec 32) (k0_hw183 : k0_chk183 i v2802), ∀ (k0_h1 : k0_cond1 i = 1#1), 8 ∣ (k0_mult183 v2802).toNat := fun i v2802 k0_hw183 k0_h1 => k0_hw183.1 k0_h1
theorem k0_off365_inb : ∀ (i : grid0.Coords) (v2802 : BitVec 32) (k0_hw183 : k0_chk183 i v2802), ∀ (k0_h1 : k0_cond1 i = 1#1), ∀ a, (k0_off365 v2802) a + S8x128.size a ≤ S65536x128.size a := fun i v2802 k0_hw183 k0_h1 => k0_hw183.2.1 k0_h1
theorem k0_off366_inb : ∀ (i : grid0.Coords) (v2802 : BitVec 32) (k0_hw183 : k0_chk183 i v2802), ∀ (k0_h1 : k0_cond1 i = 1#1), ∀ a, (k0_off366 v2802) a + S1x128.size a ≤ S8192x128.size a := fun i v2802 k0_hw183 k0_h1 => k0_hw183.2.2 k0_h1

def k0_mult184 (v2817 : BitVec 32) : BitVec 32 :=
  let c3_i32_1510 : BitVec 32 := 3#32
  let v2818 : BitVec 32 := Scalar.shrsi v2817 c3_i32_1510
  let c8191_i32_1511 : BitVec 32 := 8191#32
  let v2819 : BitVec 32 := Scalar.andi v2818 c8191_i32_1511
  let c8_i32_1512 : BitVec 32 := 8#32
  let v2820 : BitVec 32 := Scalar.muli v2819 c8_i32_1512
  v2820

def k0_off367 (v2817 : BitVec 32) : Fin 2 → Nat :=
  let c3_i32_1510 : BitVec 32 := 3#32
  let v2818 : BitVec 32 := Scalar.shrsi v2817 c3_i32_1510
  let c8191_i32_1511 : BitVec 32 := 8191#32
  let v2819 : BitVec 32 := Scalar.andi v2818 c8191_i32_1511
  let c8_i32_1512 : BitVec 32 := 8#32
  let v2820 : BitVec 32 := Scalar.muli v2819 c8_i32_1512
  let v2821 : BitVec 32 := v2820
  let v2822 : Index := Scalar.indexCast v2821
  let c0_1513 : Index := 0#32
  ![v2822.toNat, 0]
def k0_off368 (v2817 : BitVec 32) : Fin 2 → Nat :=
  let c3_i32_1510 : BitVec 32 := 3#32
  let v2818 : BitVec 32 := Scalar.shrsi v2817 c3_i32_1510
  let c8191_i32_1511 : BitVec 32 := 8191#32
  let v2819 : BitVec 32 := Scalar.andi v2818 c8191_i32_1511
  let v2827 : Index := Scalar.indexCast v2819
  let c0_1515 : Index := 0#32
  ![v2827.toNat, 0]

def k0_chk184 (i : grid0.Coords) (v2817 : BitVec 32) : Prop :=
  (∀ (k0_h1 : k0_cond1 i = 1#1), 8 ∣ (k0_mult184 v2817).toNat) ∧
  (∀ (k0_h1 : k0_cond1 i = 1#1), ∀ a, (k0_off367 v2817) a + S8x128.size a ≤ S65536x128.size a) ∧
  (∀ (k0_h1 : k0_cond1 i = 1#1), ∀ a, (k0_off368 v2817) a + S1x128.size a ≤ S8192x128.size a)
theorem k0_mult184_dvd : ∀ (i : grid0.Coords) (v2817 : BitVec 32) (k0_hw184 : k0_chk184 i v2817), ∀ (k0_h1 : k0_cond1 i = 1#1), 8 ∣ (k0_mult184 v2817).toNat := fun i v2817 k0_hw184 k0_h1 => k0_hw184.1 k0_h1
theorem k0_off367_inb : ∀ (i : grid0.Coords) (v2817 : BitVec 32) (k0_hw184 : k0_chk184 i v2817), ∀ (k0_h1 : k0_cond1 i = 1#1), ∀ a, (k0_off367 v2817) a + S8x128.size a ≤ S65536x128.size a := fun i v2817 k0_hw184 k0_h1 => k0_hw184.2.1 k0_h1
theorem k0_off368_inb : ∀ (i : grid0.Coords) (v2817 : BitVec 32) (k0_hw184 : k0_chk184 i v2817), ∀ (k0_h1 : k0_cond1 i = 1#1), ∀ a, (k0_off368 v2817) a + S1x128.size a ≤ S8192x128.size a := fun i v2817 k0_hw184 k0_h1 => k0_hw184.2.2 k0_h1

def k0_mult185 (v2832 : BitVec 32) : BitVec 32 :=
  let c3_i32_1519 : BitVec 32 := 3#32
  let v2833 : BitVec 32 := Scalar.shrsi v2832 c3_i32_1519
  let c8191_i32_1520 : BitVec 32 := 8191#32
  let v2834 : BitVec 32 := Scalar.andi v2833 c8191_i32_1520
  let c8_i32_1521 : BitVec 32 := 8#32
  let v2835 : BitVec 32 := Scalar.muli v2834 c8_i32_1521
  v2835

def k0_off369 (v2832 : BitVec 32) : Fin 2 → Nat :=
  let c3_i32_1519 : BitVec 32 := 3#32
  let v2833 : BitVec 32 := Scalar.shrsi v2832 c3_i32_1519
  let c8191_i32_1520 : BitVec 32 := 8191#32
  let v2834 : BitVec 32 := Scalar.andi v2833 c8191_i32_1520
  let c8_i32_1521 : BitVec 32 := 8#32
  let v2835 : BitVec 32 := Scalar.muli v2834 c8_i32_1521
  let v2836 : BitVec 32 := v2835
  let v2837 : Index := Scalar.indexCast v2836
  let c0_1522 : Index := 0#32
  ![v2837.toNat, 0]
def k0_off370 (v2832 : BitVec 32) : Fin 2 → Nat :=
  let c3_i32_1519 : BitVec 32 := 3#32
  let v2833 : BitVec 32 := Scalar.shrsi v2832 c3_i32_1519
  let c8191_i32_1520 : BitVec 32 := 8191#32
  let v2834 : BitVec 32 := Scalar.andi v2833 c8191_i32_1520
  let v2842 : Index := Scalar.indexCast v2834
  let c0_1524 : Index := 0#32
  ![v2842.toNat, 0]

def k0_chk185 (i : grid0.Coords) (v2832 : BitVec 32) : Prop :=
  (∀ (k0_h1 : k0_cond1 i = 1#1), 8 ∣ (k0_mult185 v2832).toNat) ∧
  (∀ (k0_h1 : k0_cond1 i = 1#1), ∀ a, (k0_off369 v2832) a + S8x128.size a ≤ S65536x128.size a) ∧
  (∀ (k0_h1 : k0_cond1 i = 1#1), ∀ a, (k0_off370 v2832) a + S1x128.size a ≤ S8192x128.size a)
theorem k0_mult185_dvd : ∀ (i : grid0.Coords) (v2832 : BitVec 32) (k0_hw185 : k0_chk185 i v2832), ∀ (k0_h1 : k0_cond1 i = 1#1), 8 ∣ (k0_mult185 v2832).toNat := fun i v2832 k0_hw185 k0_h1 => k0_hw185.1 k0_h1
theorem k0_off369_inb : ∀ (i : grid0.Coords) (v2832 : BitVec 32) (k0_hw185 : k0_chk185 i v2832), ∀ (k0_h1 : k0_cond1 i = 1#1), ∀ a, (k0_off369 v2832) a + S8x128.size a ≤ S65536x128.size a := fun i v2832 k0_hw185 k0_h1 => k0_hw185.2.1 k0_h1
theorem k0_off370_inb : ∀ (i : grid0.Coords) (v2832 : BitVec 32) (k0_hw185 : k0_chk185 i v2832), ∀ (k0_h1 : k0_cond1 i = 1#1), ∀ a, (k0_off370 v2832) a + S1x128.size a ≤ S8192x128.size a := fun i v2832 k0_hw185 k0_h1 => k0_hw185.2.2 k0_h1

def k0_mult186 (v2847 : BitVec 32) : BitVec 32 :=
  let c3_i32_1527 : BitVec 32 := 3#32
  let v2848 : BitVec 32 := Scalar.shrsi v2847 c3_i32_1527
  let c8191_i32_1528 : BitVec 32 := 8191#32
  let v2849 : BitVec 32 := Scalar.andi v2848 c8191_i32_1528
  let c8_i32_1529 : BitVec 32 := 8#32
  let v2850 : BitVec 32 := Scalar.muli v2849 c8_i32_1529
  v2850

def k0_off371 (v2847 : BitVec 32) : Fin 2 → Nat :=
  let c3_i32_1527 : BitVec 32 := 3#32
  let v2848 : BitVec 32 := Scalar.shrsi v2847 c3_i32_1527
  let c8191_i32_1528 : BitVec 32 := 8191#32
  let v2849 : BitVec 32 := Scalar.andi v2848 c8191_i32_1528
  let c8_i32_1529 : BitVec 32 := 8#32
  let v2850 : BitVec 32 := Scalar.muli v2849 c8_i32_1529
  let v2851 : BitVec 32 := v2850
  let v2852 : Index := Scalar.indexCast v2851
  let c0_1530 : Index := 0#32
  ![v2852.toNat, 0]
def k0_off372 (v2847 : BitVec 32) : Fin 2 → Nat :=
  let c3_i32_1527 : BitVec 32 := 3#32
  let v2848 : BitVec 32 := Scalar.shrsi v2847 c3_i32_1527
  let c8191_i32_1528 : BitVec 32 := 8191#32
  let v2849 : BitVec 32 := Scalar.andi v2848 c8191_i32_1528
  let v2857 : Index := Scalar.indexCast v2849
  let c0_1532 : Index := 0#32
  ![v2857.toNat, 0]

def k0_chk186 (i : grid0.Coords) (v2847 : BitVec 32) : Prop :=
  (∀ (k0_h1 : k0_cond1 i = 1#1), 8 ∣ (k0_mult186 v2847).toNat) ∧
  (∀ (k0_h1 : k0_cond1 i = 1#1), ∀ a, (k0_off371 v2847) a + S8x128.size a ≤ S65536x128.size a) ∧
  (∀ (k0_h1 : k0_cond1 i = 1#1), ∀ a, (k0_off372 v2847) a + S1x128.size a ≤ S8192x128.size a)
theorem k0_mult186_dvd : ∀ (i : grid0.Coords) (v2847 : BitVec 32) (k0_hw186 : k0_chk186 i v2847), ∀ (k0_h1 : k0_cond1 i = 1#1), 8 ∣ (k0_mult186 v2847).toNat := fun i v2847 k0_hw186 k0_h1 => k0_hw186.1 k0_h1
theorem k0_off371_inb : ∀ (i : grid0.Coords) (v2847 : BitVec 32) (k0_hw186 : k0_chk186 i v2847), ∀ (k0_h1 : k0_cond1 i = 1#1), ∀ a, (k0_off371 v2847) a + S8x128.size a ≤ S65536x128.size a := fun i v2847 k0_hw186 k0_h1 => k0_hw186.2.1 k0_h1
theorem k0_off372_inb : ∀ (i : grid0.Coords) (v2847 : BitVec 32) (k0_hw186 : k0_chk186 i v2847), ∀ (k0_h1 : k0_cond1 i = 1#1), ∀ a, (k0_off372 v2847) a + S1x128.size a ≤ S8192x128.size a := fun i v2847 k0_hw186 k0_h1 => k0_hw186.2.2 k0_h1

def k0_mult187 (v2862 : BitVec 32) : BitVec 32 :=
  let c3_i32_1535 : BitVec 32 := 3#32
  let v2863 : BitVec 32 := Scalar.shrsi v2862 c3_i32_1535
  let c8191_i32_1536 : BitVec 32 := 8191#32
  let v2864 : BitVec 32 := Scalar.andi v2863 c8191_i32_1536
  let c8_i32_1537 : BitVec 32 := 8#32
  let v2865 : BitVec 32 := Scalar.muli v2864 c8_i32_1537
  v2865

def k0_off373 (v2862 : BitVec 32) : Fin 2 → Nat :=
  let c3_i32_1535 : BitVec 32 := 3#32
  let v2863 : BitVec 32 := Scalar.shrsi v2862 c3_i32_1535
  let c8191_i32_1536 : BitVec 32 := 8191#32
  let v2864 : BitVec 32 := Scalar.andi v2863 c8191_i32_1536
  let c8_i32_1537 : BitVec 32 := 8#32
  let v2865 : BitVec 32 := Scalar.muli v2864 c8_i32_1537
  let v2866 : BitVec 32 := v2865
  let v2867 : Index := Scalar.indexCast v2866
  let c0_1538 : Index := 0#32
  ![v2867.toNat, 0]
def k0_off374 (v2862 : BitVec 32) : Fin 2 → Nat :=
  let c3_i32_1535 : BitVec 32 := 3#32
  let v2863 : BitVec 32 := Scalar.shrsi v2862 c3_i32_1535
  let c8191_i32_1536 : BitVec 32 := 8191#32
  let v2864 : BitVec 32 := Scalar.andi v2863 c8191_i32_1536
  let v2872 : Index := Scalar.indexCast v2864
  let c0_1540 : Index := 0#32
  ![v2872.toNat, 0]

def k0_chk187 (i : grid0.Coords) (v2862 : BitVec 32) : Prop :=
  (∀ (k0_h1 : k0_cond1 i = 1#1), 8 ∣ (k0_mult187 v2862).toNat) ∧
  (∀ (k0_h1 : k0_cond1 i = 1#1), ∀ a, (k0_off373 v2862) a + S8x128.size a ≤ S65536x128.size a) ∧
  (∀ (k0_h1 : k0_cond1 i = 1#1), ∀ a, (k0_off374 v2862) a + S1x128.size a ≤ S8192x128.size a)
theorem k0_mult187_dvd : ∀ (i : grid0.Coords) (v2862 : BitVec 32) (k0_hw187 : k0_chk187 i v2862), ∀ (k0_h1 : k0_cond1 i = 1#1), 8 ∣ (k0_mult187 v2862).toNat := fun i v2862 k0_hw187 k0_h1 => k0_hw187.1 k0_h1
theorem k0_off373_inb : ∀ (i : grid0.Coords) (v2862 : BitVec 32) (k0_hw187 : k0_chk187 i v2862), ∀ (k0_h1 : k0_cond1 i = 1#1), ∀ a, (k0_off373 v2862) a + S8x128.size a ≤ S65536x128.size a := fun i v2862 k0_hw187 k0_h1 => k0_hw187.2.1 k0_h1
theorem k0_off374_inb : ∀ (i : grid0.Coords) (v2862 : BitVec 32) (k0_hw187 : k0_chk187 i v2862), ∀ (k0_h1 : k0_cond1 i = 1#1), ∀ a, (k0_off374 v2862) a + S1x128.size a ≤ S8192x128.size a := fun i v2862 k0_hw187 k0_h1 => k0_hw187.2.2 k0_h1

def k0_mult188 (v2877 : BitVec 32) : BitVec 32 :=
  let c3_i32_1543 : BitVec 32 := 3#32
  let v2878 : BitVec 32 := Scalar.shrsi v2877 c3_i32_1543
  let c8191_i32_1544 : BitVec 32 := 8191#32
  let v2879 : BitVec 32 := Scalar.andi v2878 c8191_i32_1544
  let c8_i32_1545 : BitVec 32 := 8#32
  let v2880 : BitVec 32 := Scalar.muli v2879 c8_i32_1545
  v2880

def k0_off375 (v2877 : BitVec 32) : Fin 2 → Nat :=
  let c3_i32_1543 : BitVec 32 := 3#32
  let v2878 : BitVec 32 := Scalar.shrsi v2877 c3_i32_1543
  let c8191_i32_1544 : BitVec 32 := 8191#32
  let v2879 : BitVec 32 := Scalar.andi v2878 c8191_i32_1544
  let c8_i32_1545 : BitVec 32 := 8#32
  let v2880 : BitVec 32 := Scalar.muli v2879 c8_i32_1545
  let v2881 : BitVec 32 := v2880
  let v2882 : Index := Scalar.indexCast v2881
  let c0_1546 : Index := 0#32
  ![v2882.toNat, 0]
def k0_off376 (v2877 : BitVec 32) : Fin 2 → Nat :=
  let c3_i32_1543 : BitVec 32 := 3#32
  let v2878 : BitVec 32 := Scalar.shrsi v2877 c3_i32_1543
  let c8191_i32_1544 : BitVec 32 := 8191#32
  let v2879 : BitVec 32 := Scalar.andi v2878 c8191_i32_1544
  let v2887 : Index := Scalar.indexCast v2879
  let c0_1548 : Index := 0#32
  ![v2887.toNat, 0]

def k0_chk188 (i : grid0.Coords) (v2877 : BitVec 32) : Prop :=
  (∀ (k0_h1 : k0_cond1 i = 1#1), 8 ∣ (k0_mult188 v2877).toNat) ∧
  (∀ (k0_h1 : k0_cond1 i = 1#1), ∀ a, (k0_off375 v2877) a + S8x128.size a ≤ S65536x128.size a) ∧
  (∀ (k0_h1 : k0_cond1 i = 1#1), ∀ a, (k0_off376 v2877) a + S1x128.size a ≤ S8192x128.size a)
theorem k0_mult188_dvd : ∀ (i : grid0.Coords) (v2877 : BitVec 32) (k0_hw188 : k0_chk188 i v2877), ∀ (k0_h1 : k0_cond1 i = 1#1), 8 ∣ (k0_mult188 v2877).toNat := fun i v2877 k0_hw188 k0_h1 => k0_hw188.1 k0_h1
theorem k0_off375_inb : ∀ (i : grid0.Coords) (v2877 : BitVec 32) (k0_hw188 : k0_chk188 i v2877), ∀ (k0_h1 : k0_cond1 i = 1#1), ∀ a, (k0_off375 v2877) a + S8x128.size a ≤ S65536x128.size a := fun i v2877 k0_hw188 k0_h1 => k0_hw188.2.1 k0_h1
theorem k0_off376_inb : ∀ (i : grid0.Coords) (v2877 : BitVec 32) (k0_hw188 : k0_chk188 i v2877), ∀ (k0_h1 : k0_cond1 i = 1#1), ∀ a, (k0_off376 v2877) a + S1x128.size a ≤ S8192x128.size a := fun i v2877 k0_hw188 k0_h1 => k0_hw188.2.2 k0_h1

def k0_mult189 (v2892 : BitVec 32) : BitVec 32 :=
  let c3_i32_1551 : BitVec 32 := 3#32
  let v2893 : BitVec 32 := Scalar.shrsi v2892 c3_i32_1551
  let c8191_i32_1552 : BitVec 32 := 8191#32
  let v2894 : BitVec 32 := Scalar.andi v2893 c8191_i32_1552
  let c8_i32_1553 : BitVec 32 := 8#32
  let v2895 : BitVec 32 := Scalar.muli v2894 c8_i32_1553
  v2895

def k0_off377 (v2892 : BitVec 32) : Fin 2 → Nat :=
  let c3_i32_1551 : BitVec 32 := 3#32
  let v2893 : BitVec 32 := Scalar.shrsi v2892 c3_i32_1551
  let c8191_i32_1552 : BitVec 32 := 8191#32
  let v2894 : BitVec 32 := Scalar.andi v2893 c8191_i32_1552
  let c8_i32_1553 : BitVec 32 := 8#32
  let v2895 : BitVec 32 := Scalar.muli v2894 c8_i32_1553
  let v2896 : BitVec 32 := v2895
  let v2897 : Index := Scalar.indexCast v2896
  let c0_1554 : Index := 0#32
  ![v2897.toNat, 0]
def k0_off378 (v2892 : BitVec 32) : Fin 2 → Nat :=
  let c3_i32_1551 : BitVec 32 := 3#32
  let v2893 : BitVec 32 := Scalar.shrsi v2892 c3_i32_1551
  let c8191_i32_1552 : BitVec 32 := 8191#32
  let v2894 : BitVec 32 := Scalar.andi v2893 c8191_i32_1552
  let v2902 : Index := Scalar.indexCast v2894
  let c0_1556 : Index := 0#32
  ![v2902.toNat, 0]

def k0_chk189 (i : grid0.Coords) (v2892 : BitVec 32) : Prop :=
  (∀ (k0_h1 : k0_cond1 i = 1#1), 8 ∣ (k0_mult189 v2892).toNat) ∧
  (∀ (k0_h1 : k0_cond1 i = 1#1), ∀ a, (k0_off377 v2892) a + S8x128.size a ≤ S65536x128.size a) ∧
  (∀ (k0_h1 : k0_cond1 i = 1#1), ∀ a, (k0_off378 v2892) a + S1x128.size a ≤ S8192x128.size a)
theorem k0_mult189_dvd : ∀ (i : grid0.Coords) (v2892 : BitVec 32) (k0_hw189 : k0_chk189 i v2892), ∀ (k0_h1 : k0_cond1 i = 1#1), 8 ∣ (k0_mult189 v2892).toNat := fun i v2892 k0_hw189 k0_h1 => k0_hw189.1 k0_h1
theorem k0_off377_inb : ∀ (i : grid0.Coords) (v2892 : BitVec 32) (k0_hw189 : k0_chk189 i v2892), ∀ (k0_h1 : k0_cond1 i = 1#1), ∀ a, (k0_off377 v2892) a + S8x128.size a ≤ S65536x128.size a := fun i v2892 k0_hw189 k0_h1 => k0_hw189.2.1 k0_h1
theorem k0_off378_inb : ∀ (i : grid0.Coords) (v2892 : BitVec 32) (k0_hw189 : k0_chk189 i v2892), ∀ (k0_h1 : k0_cond1 i = 1#1), ∀ a, (k0_off378 v2892) a + S1x128.size a ≤ S8192x128.size a := fun i v2892 k0_hw189 k0_h1 => k0_hw189.2.2 k0_h1

def k0_mult190 (v2907 : BitVec 32) : BitVec 32 :=
  let c3_i32_1559 : BitVec 32 := 3#32
  let v2908 : BitVec 32 := Scalar.shrsi v2907 c3_i32_1559
  let c8191_i32_1560 : BitVec 32 := 8191#32
  let v2909 : BitVec 32 := Scalar.andi v2908 c8191_i32_1560
  let c8_i32_1561 : BitVec 32 := 8#32
  let v2910 : BitVec 32 := Scalar.muli v2909 c8_i32_1561
  v2910

def k0_off379 (v2907 : BitVec 32) : Fin 2 → Nat :=
  let c3_i32_1559 : BitVec 32 := 3#32
  let v2908 : BitVec 32 := Scalar.shrsi v2907 c3_i32_1559
  let c8191_i32_1560 : BitVec 32 := 8191#32
  let v2909 : BitVec 32 := Scalar.andi v2908 c8191_i32_1560
  let c8_i32_1561 : BitVec 32 := 8#32
  let v2910 : BitVec 32 := Scalar.muli v2909 c8_i32_1561
  let v2911 : BitVec 32 := v2910
  let v2912 : Index := Scalar.indexCast v2911
  let c0_1562 : Index := 0#32
  ![v2912.toNat, 0]
def k0_off380 (v2907 : BitVec 32) : Fin 2 → Nat :=
  let c3_i32_1559 : BitVec 32 := 3#32
  let v2908 : BitVec 32 := Scalar.shrsi v2907 c3_i32_1559
  let c8191_i32_1560 : BitVec 32 := 8191#32
  let v2909 : BitVec 32 := Scalar.andi v2908 c8191_i32_1560
  let v2917 : Index := Scalar.indexCast v2909
  let c0_1564 : Index := 0#32
  ![v2917.toNat, 0]

def k0_chk190 (i : grid0.Coords) (v2907 : BitVec 32) : Prop :=
  (∀ (k0_h1 : k0_cond1 i = 1#1), 8 ∣ (k0_mult190 v2907).toNat) ∧
  (∀ (k0_h1 : k0_cond1 i = 1#1), ∀ a, (k0_off379 v2907) a + S8x128.size a ≤ S65536x128.size a) ∧
  (∀ (k0_h1 : k0_cond1 i = 1#1), ∀ a, (k0_off380 v2907) a + S1x128.size a ≤ S8192x128.size a)
theorem k0_mult190_dvd : ∀ (i : grid0.Coords) (v2907 : BitVec 32) (k0_hw190 : k0_chk190 i v2907), ∀ (k0_h1 : k0_cond1 i = 1#1), 8 ∣ (k0_mult190 v2907).toNat := fun i v2907 k0_hw190 k0_h1 => k0_hw190.1 k0_h1
theorem k0_off379_inb : ∀ (i : grid0.Coords) (v2907 : BitVec 32) (k0_hw190 : k0_chk190 i v2907), ∀ (k0_h1 : k0_cond1 i = 1#1), ∀ a, (k0_off379 v2907) a + S8x128.size a ≤ S65536x128.size a := fun i v2907 k0_hw190 k0_h1 => k0_hw190.2.1 k0_h1
theorem k0_off380_inb : ∀ (i : grid0.Coords) (v2907 : BitVec 32) (k0_hw190 : k0_chk190 i v2907), ∀ (k0_h1 : k0_cond1 i = 1#1), ∀ a, (k0_off380 v2907) a + S1x128.size a ≤ S8192x128.size a := fun i v2907 k0_hw190 k0_h1 => k0_hw190.2.2 k0_h1

def k0_mult191 (v2922 : BitVec 32) : BitVec 32 :=
  let c3_i32_1567 : BitVec 32 := 3#32
  let v2923 : BitVec 32 := Scalar.shrsi v2922 c3_i32_1567
  let c8191_i32_1568 : BitVec 32 := 8191#32
  let v2924 : BitVec 32 := Scalar.andi v2923 c8191_i32_1568
  let c8_i32_1569 : BitVec 32 := 8#32
  let v2925 : BitVec 32 := Scalar.muli v2924 c8_i32_1569
  v2925

def k0_off381 (v2922 : BitVec 32) : Fin 2 → Nat :=
  let c3_i32_1567 : BitVec 32 := 3#32
  let v2923 : BitVec 32 := Scalar.shrsi v2922 c3_i32_1567
  let c8191_i32_1568 : BitVec 32 := 8191#32
  let v2924 : BitVec 32 := Scalar.andi v2923 c8191_i32_1568
  let c8_i32_1569 : BitVec 32 := 8#32
  let v2925 : BitVec 32 := Scalar.muli v2924 c8_i32_1569
  let v2926 : BitVec 32 := v2925
  let v2927 : Index := Scalar.indexCast v2926
  let c0_1570 : Index := 0#32
  ![v2927.toNat, 0]
def k0_off382 (v2922 : BitVec 32) : Fin 2 → Nat :=
  let c3_i32_1567 : BitVec 32 := 3#32
  let v2923 : BitVec 32 := Scalar.shrsi v2922 c3_i32_1567
  let c8191_i32_1568 : BitVec 32 := 8191#32
  let v2924 : BitVec 32 := Scalar.andi v2923 c8191_i32_1568
  let v2932 : Index := Scalar.indexCast v2924
  let c0_1572 : Index := 0#32
  ![v2932.toNat, 0]

def k0_chk191 (i : grid0.Coords) (v2922 : BitVec 32) : Prop :=
  (∀ (k0_h1 : k0_cond1 i = 1#1), 8 ∣ (k0_mult191 v2922).toNat) ∧
  (∀ (k0_h1 : k0_cond1 i = 1#1), ∀ a, (k0_off381 v2922) a + S8x128.size a ≤ S65536x128.size a) ∧
  (∀ (k0_h1 : k0_cond1 i = 1#1), ∀ a, (k0_off382 v2922) a + S1x128.size a ≤ S8192x128.size a)
theorem k0_mult191_dvd : ∀ (i : grid0.Coords) (v2922 : BitVec 32) (k0_hw191 : k0_chk191 i v2922), ∀ (k0_h1 : k0_cond1 i = 1#1), 8 ∣ (k0_mult191 v2922).toNat := fun i v2922 k0_hw191 k0_h1 => k0_hw191.1 k0_h1
theorem k0_off381_inb : ∀ (i : grid0.Coords) (v2922 : BitVec 32) (k0_hw191 : k0_chk191 i v2922), ∀ (k0_h1 : k0_cond1 i = 1#1), ∀ a, (k0_off381 v2922) a + S8x128.size a ≤ S65536x128.size a := fun i v2922 k0_hw191 k0_h1 => k0_hw191.2.1 k0_h1
theorem k0_off382_inb : ∀ (i : grid0.Coords) (v2922 : BitVec 32) (k0_hw191 : k0_chk191 i v2922), ∀ (k0_h1 : k0_cond1 i = 1#1), ∀ a, (k0_off382 v2922) a + S1x128.size a ≤ S8192x128.size a := fun i v2922 k0_hw191 k0_h1 => k0_hw191.2.2 k0_h1

def k0_mult192 (v2937 : BitVec 32) : BitVec 32 :=
  let c3_i32_1575 : BitVec 32 := 3#32
  let v2938 : BitVec 32 := Scalar.shrsi v2937 c3_i32_1575
  let c8191_i32_1576 : BitVec 32 := 8191#32
  let v2939 : BitVec 32 := Scalar.andi v2938 c8191_i32_1576
  let c8_i32_1577 : BitVec 32 := 8#32
  let v2940 : BitVec 32 := Scalar.muli v2939 c8_i32_1577
  v2940

def k0_off383 (v2937 : BitVec 32) : Fin 2 → Nat :=
  let c3_i32_1575 : BitVec 32 := 3#32
  let v2938 : BitVec 32 := Scalar.shrsi v2937 c3_i32_1575
  let c8191_i32_1576 : BitVec 32 := 8191#32
  let v2939 : BitVec 32 := Scalar.andi v2938 c8191_i32_1576
  let c8_i32_1577 : BitVec 32 := 8#32
  let v2940 : BitVec 32 := Scalar.muli v2939 c8_i32_1577
  let v2941 : BitVec 32 := v2940
  let v2942 : Index := Scalar.indexCast v2941
  let c0_1578 : Index := 0#32
  ![v2942.toNat, 0]
def k0_off384 (v2937 : BitVec 32) : Fin 2 → Nat :=
  let c3_i32_1575 : BitVec 32 := 3#32
  let v2938 : BitVec 32 := Scalar.shrsi v2937 c3_i32_1575
  let c8191_i32_1576 : BitVec 32 := 8191#32
  let v2939 : BitVec 32 := Scalar.andi v2938 c8191_i32_1576
  let v2947 : Index := Scalar.indexCast v2939
  let c0_1580 : Index := 0#32
  ![v2947.toNat, 0]

def k0_chk192 (i : grid0.Coords) (v2937 : BitVec 32) : Prop :=
  (∀ (k0_h1 : k0_cond1 i = 1#1), 8 ∣ (k0_mult192 v2937).toNat) ∧
  (∀ (k0_h1 : k0_cond1 i = 1#1), ∀ a, (k0_off383 v2937) a + S8x128.size a ≤ S65536x128.size a) ∧
  (∀ (k0_h1 : k0_cond1 i = 1#1), ∀ a, (k0_off384 v2937) a + S1x128.size a ≤ S8192x128.size a)
theorem k0_mult192_dvd : ∀ (i : grid0.Coords) (v2937 : BitVec 32) (k0_hw192 : k0_chk192 i v2937), ∀ (k0_h1 : k0_cond1 i = 1#1), 8 ∣ (k0_mult192 v2937).toNat := fun i v2937 k0_hw192 k0_h1 => k0_hw192.1 k0_h1
theorem k0_off383_inb : ∀ (i : grid0.Coords) (v2937 : BitVec 32) (k0_hw192 : k0_chk192 i v2937), ∀ (k0_h1 : k0_cond1 i = 1#1), ∀ a, (k0_off383 v2937) a + S8x128.size a ≤ S65536x128.size a := fun i v2937 k0_hw192 k0_h1 => k0_hw192.2.1 k0_h1
theorem k0_off384_inb : ∀ (i : grid0.Coords) (v2937 : BitVec 32) (k0_hw192 : k0_chk192 i v2937), ∀ (k0_h1 : k0_cond1 i = 1#1), ∀ a, (k0_off384 v2937) a + S1x128.size a ≤ S8192x128.size a := fun i v2937 k0_hw192 k0_h1 => k0_hw192.2.2 k0_h1

def k0_mult193 (v2952 : BitVec 32) : BitVec 32 :=
  let c3_i32_1584 : BitVec 32 := 3#32
  let v2953 : BitVec 32 := Scalar.shrsi v2952 c3_i32_1584
  let c8191_i32_1585 : BitVec 32 := 8191#32
  let v2954 : BitVec 32 := Scalar.andi v2953 c8191_i32_1585
  let c8_i32_1586 : BitVec 32 := 8#32
  let v2955 : BitVec 32 := Scalar.muli v2954 c8_i32_1586
  v2955

def k0_off385 (v2952 : BitVec 32) : Fin 2 → Nat :=
  let c3_i32_1584 : BitVec 32 := 3#32
  let v2953 : BitVec 32 := Scalar.shrsi v2952 c3_i32_1584
  let c8191_i32_1585 : BitVec 32 := 8191#32
  let v2954 : BitVec 32 := Scalar.andi v2953 c8191_i32_1585
  let c8_i32_1586 : BitVec 32 := 8#32
  let v2955 : BitVec 32 := Scalar.muli v2954 c8_i32_1586
  let v2956 : BitVec 32 := v2955
  let v2957 : Index := Scalar.indexCast v2956
  let c0_1587 : Index := 0#32
  ![v2957.toNat, 0]
def k0_off386 (v2952 : BitVec 32) : Fin 2 → Nat :=
  let c3_i32_1584 : BitVec 32 := 3#32
  let v2953 : BitVec 32 := Scalar.shrsi v2952 c3_i32_1584
  let c8191_i32_1585 : BitVec 32 := 8191#32
  let v2954 : BitVec 32 := Scalar.andi v2953 c8191_i32_1585
  let v2962 : Index := Scalar.indexCast v2954
  let c0_1589 : Index := 0#32
  ![v2962.toNat, 0]

def k0_chk193 (i : grid0.Coords) (v2952 : BitVec 32) : Prop :=
  (∀ (k0_h1 : k0_cond1 i = 1#1), 8 ∣ (k0_mult193 v2952).toNat) ∧
  (∀ (k0_h1 : k0_cond1 i = 1#1), ∀ a, (k0_off385 v2952) a + S8x128.size a ≤ S65536x128.size a) ∧
  (∀ (k0_h1 : k0_cond1 i = 1#1), ∀ a, (k0_off386 v2952) a + S1x128.size a ≤ S8192x128.size a)
theorem k0_mult193_dvd : ∀ (i : grid0.Coords) (v2952 : BitVec 32) (k0_hw193 : k0_chk193 i v2952), ∀ (k0_h1 : k0_cond1 i = 1#1), 8 ∣ (k0_mult193 v2952).toNat := fun i v2952 k0_hw193 k0_h1 => k0_hw193.1 k0_h1
theorem k0_off385_inb : ∀ (i : grid0.Coords) (v2952 : BitVec 32) (k0_hw193 : k0_chk193 i v2952), ∀ (k0_h1 : k0_cond1 i = 1#1), ∀ a, (k0_off385 v2952) a + S8x128.size a ≤ S65536x128.size a := fun i v2952 k0_hw193 k0_h1 => k0_hw193.2.1 k0_h1
theorem k0_off386_inb : ∀ (i : grid0.Coords) (v2952 : BitVec 32) (k0_hw193 : k0_chk193 i v2952), ∀ (k0_h1 : k0_cond1 i = 1#1), ∀ a, (k0_off386 v2952) a + S1x128.size a ≤ S8192x128.size a := fun i v2952 k0_hw193 k0_h1 => k0_hw193.2.2 k0_h1

def k0_mult194 (v2967 : BitVec 32) : BitVec 32 :=
  let c3_i32_1592 : BitVec 32 := 3#32
  let v2968 : BitVec 32 := Scalar.shrsi v2967 c3_i32_1592
  let c8191_i32_1593 : BitVec 32 := 8191#32
  let v2969 : BitVec 32 := Scalar.andi v2968 c8191_i32_1593
  let c8_i32_1594 : BitVec 32 := 8#32
  let v2970 : BitVec 32 := Scalar.muli v2969 c8_i32_1594
  v2970

def k0_off387 (v2967 : BitVec 32) : Fin 2 → Nat :=
  let c3_i32_1592 : BitVec 32 := 3#32
  let v2968 : BitVec 32 := Scalar.shrsi v2967 c3_i32_1592
  let c8191_i32_1593 : BitVec 32 := 8191#32
  let v2969 : BitVec 32 := Scalar.andi v2968 c8191_i32_1593
  let c8_i32_1594 : BitVec 32 := 8#32
  let v2970 : BitVec 32 := Scalar.muli v2969 c8_i32_1594
  let v2971 : BitVec 32 := v2970
  let v2972 : Index := Scalar.indexCast v2971
  let c0_1595 : Index := 0#32
  ![v2972.toNat, 0]
def k0_off388 (v2967 : BitVec 32) : Fin 2 → Nat :=
  let c3_i32_1592 : BitVec 32 := 3#32
  let v2968 : BitVec 32 := Scalar.shrsi v2967 c3_i32_1592
  let c8191_i32_1593 : BitVec 32 := 8191#32
  let v2969 : BitVec 32 := Scalar.andi v2968 c8191_i32_1593
  let v2977 : Index := Scalar.indexCast v2969
  let c0_1597 : Index := 0#32
  ![v2977.toNat, 0]

def k0_chk194 (i : grid0.Coords) (v2967 : BitVec 32) : Prop :=
  (∀ (k0_h1 : k0_cond1 i = 1#1), 8 ∣ (k0_mult194 v2967).toNat) ∧
  (∀ (k0_h1 : k0_cond1 i = 1#1), ∀ a, (k0_off387 v2967) a + S8x128.size a ≤ S65536x128.size a) ∧
  (∀ (k0_h1 : k0_cond1 i = 1#1), ∀ a, (k0_off388 v2967) a + S1x128.size a ≤ S8192x128.size a)
theorem k0_mult194_dvd : ∀ (i : grid0.Coords) (v2967 : BitVec 32) (k0_hw194 : k0_chk194 i v2967), ∀ (k0_h1 : k0_cond1 i = 1#1), 8 ∣ (k0_mult194 v2967).toNat := fun i v2967 k0_hw194 k0_h1 => k0_hw194.1 k0_h1
theorem k0_off387_inb : ∀ (i : grid0.Coords) (v2967 : BitVec 32) (k0_hw194 : k0_chk194 i v2967), ∀ (k0_h1 : k0_cond1 i = 1#1), ∀ a, (k0_off387 v2967) a + S8x128.size a ≤ S65536x128.size a := fun i v2967 k0_hw194 k0_h1 => k0_hw194.2.1 k0_h1
theorem k0_off388_inb : ∀ (i : grid0.Coords) (v2967 : BitVec 32) (k0_hw194 : k0_chk194 i v2967), ∀ (k0_h1 : k0_cond1 i = 1#1), ∀ a, (k0_off388 v2967) a + S1x128.size a ≤ S8192x128.size a := fun i v2967 k0_hw194 k0_h1 => k0_hw194.2.2 k0_h1

def k0_mult195 (v2982 : BitVec 32) : BitVec 32 :=
  let c3_i32_1600 : BitVec 32 := 3#32
  let v2983 : BitVec 32 := Scalar.shrsi v2982 c3_i32_1600
  let c8191_i32_1601 : BitVec 32 := 8191#32
  let v2984 : BitVec 32 := Scalar.andi v2983 c8191_i32_1601
  let c8_i32_1602 : BitVec 32 := 8#32
  let v2985 : BitVec 32 := Scalar.muli v2984 c8_i32_1602
  v2985

def k0_off389 (v2982 : BitVec 32) : Fin 2 → Nat :=
  let c3_i32_1600 : BitVec 32 := 3#32
  let v2983 : BitVec 32 := Scalar.shrsi v2982 c3_i32_1600
  let c8191_i32_1601 : BitVec 32 := 8191#32
  let v2984 : BitVec 32 := Scalar.andi v2983 c8191_i32_1601
  let c8_i32_1602 : BitVec 32 := 8#32
  let v2985 : BitVec 32 := Scalar.muli v2984 c8_i32_1602
  let v2986 : BitVec 32 := v2985
  let v2987 : Index := Scalar.indexCast v2986
  let c0_1603 : Index := 0#32
  ![v2987.toNat, 0]
def k0_off390 (v2982 : BitVec 32) : Fin 2 → Nat :=
  let c3_i32_1600 : BitVec 32 := 3#32
  let v2983 : BitVec 32 := Scalar.shrsi v2982 c3_i32_1600
  let c8191_i32_1601 : BitVec 32 := 8191#32
  let v2984 : BitVec 32 := Scalar.andi v2983 c8191_i32_1601
  let v2992 : Index := Scalar.indexCast v2984
  let c0_1605 : Index := 0#32
  ![v2992.toNat, 0]

def k0_chk195 (i : grid0.Coords) (v2982 : BitVec 32) : Prop :=
  (∀ (k0_h1 : k0_cond1 i = 1#1), 8 ∣ (k0_mult195 v2982).toNat) ∧
  (∀ (k0_h1 : k0_cond1 i = 1#1), ∀ a, (k0_off389 v2982) a + S8x128.size a ≤ S65536x128.size a) ∧
  (∀ (k0_h1 : k0_cond1 i = 1#1), ∀ a, (k0_off390 v2982) a + S1x128.size a ≤ S8192x128.size a)
theorem k0_mult195_dvd : ∀ (i : grid0.Coords) (v2982 : BitVec 32) (k0_hw195 : k0_chk195 i v2982), ∀ (k0_h1 : k0_cond1 i = 1#1), 8 ∣ (k0_mult195 v2982).toNat := fun i v2982 k0_hw195 k0_h1 => k0_hw195.1 k0_h1
theorem k0_off389_inb : ∀ (i : grid0.Coords) (v2982 : BitVec 32) (k0_hw195 : k0_chk195 i v2982), ∀ (k0_h1 : k0_cond1 i = 1#1), ∀ a, (k0_off389 v2982) a + S8x128.size a ≤ S65536x128.size a := fun i v2982 k0_hw195 k0_h1 => k0_hw195.2.1 k0_h1
theorem k0_off390_inb : ∀ (i : grid0.Coords) (v2982 : BitVec 32) (k0_hw195 : k0_chk195 i v2982), ∀ (k0_h1 : k0_cond1 i = 1#1), ∀ a, (k0_off390 v2982) a + S1x128.size a ≤ S8192x128.size a := fun i v2982 k0_hw195 k0_h1 => k0_hw195.2.2 k0_h1

def k0_mult196 (v2997 : BitVec 32) : BitVec 32 :=
  let c3_i32_1608 : BitVec 32 := 3#32
  let v2998 : BitVec 32 := Scalar.shrsi v2997 c3_i32_1608
  let c8191_i32_1609 : BitVec 32 := 8191#32
  let v2999 : BitVec 32 := Scalar.andi v2998 c8191_i32_1609
  let c8_i32_1610 : BitVec 32 := 8#32
  let v3000 : BitVec 32 := Scalar.muli v2999 c8_i32_1610
  v3000

def k0_off391 (v2997 : BitVec 32) : Fin 2 → Nat :=
  let c3_i32_1608 : BitVec 32 := 3#32
  let v2998 : BitVec 32 := Scalar.shrsi v2997 c3_i32_1608
  let c8191_i32_1609 : BitVec 32 := 8191#32
  let v2999 : BitVec 32 := Scalar.andi v2998 c8191_i32_1609
  let c8_i32_1610 : BitVec 32 := 8#32
  let v3000 : BitVec 32 := Scalar.muli v2999 c8_i32_1610
  let v3001 : BitVec 32 := v3000
  let v3002 : Index := Scalar.indexCast v3001
  let c0_1611 : Index := 0#32
  ![v3002.toNat, 0]
def k0_off392 (v2997 : BitVec 32) : Fin 2 → Nat :=
  let c3_i32_1608 : BitVec 32 := 3#32
  let v2998 : BitVec 32 := Scalar.shrsi v2997 c3_i32_1608
  let c8191_i32_1609 : BitVec 32 := 8191#32
  let v2999 : BitVec 32 := Scalar.andi v2998 c8191_i32_1609
  let v3007 : Index := Scalar.indexCast v2999
  let c0_1613 : Index := 0#32
  ![v3007.toNat, 0]

def k0_chk196 (i : grid0.Coords) (v2997 : BitVec 32) : Prop :=
  (∀ (k0_h1 : k0_cond1 i = 1#1), 8 ∣ (k0_mult196 v2997).toNat) ∧
  (∀ (k0_h1 : k0_cond1 i = 1#1), ∀ a, (k0_off391 v2997) a + S8x128.size a ≤ S65536x128.size a) ∧
  (∀ (k0_h1 : k0_cond1 i = 1#1), ∀ a, (k0_off392 v2997) a + S1x128.size a ≤ S8192x128.size a)
theorem k0_mult196_dvd : ∀ (i : grid0.Coords) (v2997 : BitVec 32) (k0_hw196 : k0_chk196 i v2997), ∀ (k0_h1 : k0_cond1 i = 1#1), 8 ∣ (k0_mult196 v2997).toNat := fun i v2997 k0_hw196 k0_h1 => k0_hw196.1 k0_h1
theorem k0_off391_inb : ∀ (i : grid0.Coords) (v2997 : BitVec 32) (k0_hw196 : k0_chk196 i v2997), ∀ (k0_h1 : k0_cond1 i = 1#1), ∀ a, (k0_off391 v2997) a + S8x128.size a ≤ S65536x128.size a := fun i v2997 k0_hw196 k0_h1 => k0_hw196.2.1 k0_h1
theorem k0_off392_inb : ∀ (i : grid0.Coords) (v2997 : BitVec 32) (k0_hw196 : k0_chk196 i v2997), ∀ (k0_h1 : k0_cond1 i = 1#1), ∀ a, (k0_off392 v2997) a + S1x128.size a ≤ S8192x128.size a := fun i v2997 k0_hw196 k0_h1 => k0_hw196.2.2 k0_h1

def k0_mult197 (v3012 : BitVec 32) : BitVec 32 :=
  let c3_i32_1616 : BitVec 32 := 3#32
  let v3013 : BitVec 32 := Scalar.shrsi v3012 c3_i32_1616
  let c8191_i32_1617 : BitVec 32 := 8191#32
  let v3014 : BitVec 32 := Scalar.andi v3013 c8191_i32_1617
  let c8_i32_1618 : BitVec 32 := 8#32
  let v3015 : BitVec 32 := Scalar.muli v3014 c8_i32_1618
  v3015

def k0_off393 (v3012 : BitVec 32) : Fin 2 → Nat :=
  let c3_i32_1616 : BitVec 32 := 3#32
  let v3013 : BitVec 32 := Scalar.shrsi v3012 c3_i32_1616
  let c8191_i32_1617 : BitVec 32 := 8191#32
  let v3014 : BitVec 32 := Scalar.andi v3013 c8191_i32_1617
  let c8_i32_1618 : BitVec 32 := 8#32
  let v3015 : BitVec 32 := Scalar.muli v3014 c8_i32_1618
  let v3016 : BitVec 32 := v3015
  let v3017 : Index := Scalar.indexCast v3016
  let c0_1619 : Index := 0#32
  ![v3017.toNat, 0]
def k0_off394 (v3012 : BitVec 32) : Fin 2 → Nat :=
  let c3_i32_1616 : BitVec 32 := 3#32
  let v3013 : BitVec 32 := Scalar.shrsi v3012 c3_i32_1616
  let c8191_i32_1617 : BitVec 32 := 8191#32
  let v3014 : BitVec 32 := Scalar.andi v3013 c8191_i32_1617
  let v3022 : Index := Scalar.indexCast v3014
  let c0_1621 : Index := 0#32
  ![v3022.toNat, 0]

def k0_chk197 (i : grid0.Coords) (v3012 : BitVec 32) : Prop :=
  (∀ (k0_h1 : k0_cond1 i = 1#1), 8 ∣ (k0_mult197 v3012).toNat) ∧
  (∀ (k0_h1 : k0_cond1 i = 1#1), ∀ a, (k0_off393 v3012) a + S8x128.size a ≤ S65536x128.size a) ∧
  (∀ (k0_h1 : k0_cond1 i = 1#1), ∀ a, (k0_off394 v3012) a + S1x128.size a ≤ S8192x128.size a)
theorem k0_mult197_dvd : ∀ (i : grid0.Coords) (v3012 : BitVec 32) (k0_hw197 : k0_chk197 i v3012), ∀ (k0_h1 : k0_cond1 i = 1#1), 8 ∣ (k0_mult197 v3012).toNat := fun i v3012 k0_hw197 k0_h1 => k0_hw197.1 k0_h1
theorem k0_off393_inb : ∀ (i : grid0.Coords) (v3012 : BitVec 32) (k0_hw197 : k0_chk197 i v3012), ∀ (k0_h1 : k0_cond1 i = 1#1), ∀ a, (k0_off393 v3012) a + S8x128.size a ≤ S65536x128.size a := fun i v3012 k0_hw197 k0_h1 => k0_hw197.2.1 k0_h1
theorem k0_off394_inb : ∀ (i : grid0.Coords) (v3012 : BitVec 32) (k0_hw197 : k0_chk197 i v3012), ∀ (k0_h1 : k0_cond1 i = 1#1), ∀ a, (k0_off394 v3012) a + S1x128.size a ≤ S8192x128.size a := fun i v3012 k0_hw197 k0_h1 => k0_hw197.2.2 k0_h1

def k0_mult198 (v3027 : BitVec 32) : BitVec 32 :=
  let c3_i32_1624 : BitVec 32 := 3#32
  let v3028 : BitVec 32 := Scalar.shrsi v3027 c3_i32_1624
  let c8191_i32_1625 : BitVec 32 := 8191#32
  let v3029 : BitVec 32 := Scalar.andi v3028 c8191_i32_1625
  let c8_i32_1626 : BitVec 32 := 8#32
  let v3030 : BitVec 32 := Scalar.muli v3029 c8_i32_1626
  v3030

def k0_off395 (v3027 : BitVec 32) : Fin 2 → Nat :=
  let c3_i32_1624 : BitVec 32 := 3#32
  let v3028 : BitVec 32 := Scalar.shrsi v3027 c3_i32_1624
  let c8191_i32_1625 : BitVec 32 := 8191#32
  let v3029 : BitVec 32 := Scalar.andi v3028 c8191_i32_1625
  let c8_i32_1626 : BitVec 32 := 8#32
  let v3030 : BitVec 32 := Scalar.muli v3029 c8_i32_1626
  let v3031 : BitVec 32 := v3030
  let v3032 : Index := Scalar.indexCast v3031
  let c0_1627 : Index := 0#32
  ![v3032.toNat, 0]
def k0_off396 (v3027 : BitVec 32) : Fin 2 → Nat :=
  let c3_i32_1624 : BitVec 32 := 3#32
  let v3028 : BitVec 32 := Scalar.shrsi v3027 c3_i32_1624
  let c8191_i32_1625 : BitVec 32 := 8191#32
  let v3029 : BitVec 32 := Scalar.andi v3028 c8191_i32_1625
  let v3037 : Index := Scalar.indexCast v3029
  let c0_1629 : Index := 0#32
  ![v3037.toNat, 0]

def k0_chk198 (i : grid0.Coords) (v3027 : BitVec 32) : Prop :=
  (∀ (k0_h1 : k0_cond1 i = 1#1), 8 ∣ (k0_mult198 v3027).toNat) ∧
  (∀ (k0_h1 : k0_cond1 i = 1#1), ∀ a, (k0_off395 v3027) a + S8x128.size a ≤ S65536x128.size a) ∧
  (∀ (k0_h1 : k0_cond1 i = 1#1), ∀ a, (k0_off396 v3027) a + S1x128.size a ≤ S8192x128.size a)
theorem k0_mult198_dvd : ∀ (i : grid0.Coords) (v3027 : BitVec 32) (k0_hw198 : k0_chk198 i v3027), ∀ (k0_h1 : k0_cond1 i = 1#1), 8 ∣ (k0_mult198 v3027).toNat := fun i v3027 k0_hw198 k0_h1 => k0_hw198.1 k0_h1
theorem k0_off395_inb : ∀ (i : grid0.Coords) (v3027 : BitVec 32) (k0_hw198 : k0_chk198 i v3027), ∀ (k0_h1 : k0_cond1 i = 1#1), ∀ a, (k0_off395 v3027) a + S8x128.size a ≤ S65536x128.size a := fun i v3027 k0_hw198 k0_h1 => k0_hw198.2.1 k0_h1
theorem k0_off396_inb : ∀ (i : grid0.Coords) (v3027 : BitVec 32) (k0_hw198 : k0_chk198 i v3027), ∀ (k0_h1 : k0_cond1 i = 1#1), ∀ a, (k0_off396 v3027) a + S1x128.size a ≤ S8192x128.size a := fun i v3027 k0_hw198 k0_h1 => k0_hw198.2.2 k0_h1

def k0_mult199 (v3042 : BitVec 32) : BitVec 32 :=
  let c3_i32_1632 : BitVec 32 := 3#32
  let v3043 : BitVec 32 := Scalar.shrsi v3042 c3_i32_1632
  let c8191_i32_1633 : BitVec 32 := 8191#32
  let v3044 : BitVec 32 := Scalar.andi v3043 c8191_i32_1633
  let c8_i32_1634 : BitVec 32 := 8#32
  let v3045 : BitVec 32 := Scalar.muli v3044 c8_i32_1634
  v3045

def k0_off397 (v3042 : BitVec 32) : Fin 2 → Nat :=
  let c3_i32_1632 : BitVec 32 := 3#32
  let v3043 : BitVec 32 := Scalar.shrsi v3042 c3_i32_1632
  let c8191_i32_1633 : BitVec 32 := 8191#32
  let v3044 : BitVec 32 := Scalar.andi v3043 c8191_i32_1633
  let c8_i32_1634 : BitVec 32 := 8#32
  let v3045 : BitVec 32 := Scalar.muli v3044 c8_i32_1634
  let v3046 : BitVec 32 := v3045
  let v3047 : Index := Scalar.indexCast v3046
  let c0_1635 : Index := 0#32
  ![v3047.toNat, 0]
def k0_off398 (v3042 : BitVec 32) : Fin 2 → Nat :=
  let c3_i32_1632 : BitVec 32 := 3#32
  let v3043 : BitVec 32 := Scalar.shrsi v3042 c3_i32_1632
  let c8191_i32_1633 : BitVec 32 := 8191#32
  let v3044 : BitVec 32 := Scalar.andi v3043 c8191_i32_1633
  let v3052 : Index := Scalar.indexCast v3044
  let c0_1637 : Index := 0#32
  ![v3052.toNat, 0]

def k0_chk199 (i : grid0.Coords) (v3042 : BitVec 32) : Prop :=
  (∀ (k0_h1 : k0_cond1 i = 1#1), 8 ∣ (k0_mult199 v3042).toNat) ∧
  (∀ (k0_h1 : k0_cond1 i = 1#1), ∀ a, (k0_off397 v3042) a + S8x128.size a ≤ S65536x128.size a) ∧
  (∀ (k0_h1 : k0_cond1 i = 1#1), ∀ a, (k0_off398 v3042) a + S1x128.size a ≤ S8192x128.size a)
theorem k0_mult199_dvd : ∀ (i : grid0.Coords) (v3042 : BitVec 32) (k0_hw199 : k0_chk199 i v3042), ∀ (k0_h1 : k0_cond1 i = 1#1), 8 ∣ (k0_mult199 v3042).toNat := fun i v3042 k0_hw199 k0_h1 => k0_hw199.1 k0_h1
theorem k0_off397_inb : ∀ (i : grid0.Coords) (v3042 : BitVec 32) (k0_hw199 : k0_chk199 i v3042), ∀ (k0_h1 : k0_cond1 i = 1#1), ∀ a, (k0_off397 v3042) a + S8x128.size a ≤ S65536x128.size a := fun i v3042 k0_hw199 k0_h1 => k0_hw199.2.1 k0_h1
theorem k0_off398_inb : ∀ (i : grid0.Coords) (v3042 : BitVec 32) (k0_hw199 : k0_chk199 i v3042), ∀ (k0_h1 : k0_cond1 i = 1#1), ∀ a, (k0_off398 v3042) a + S1x128.size a ≤ S8192x128.size a := fun i v3042 k0_hw199 k0_h1 => k0_hw199.2.2 k0_h1

def k0_mult200 (v3057 : BitVec 32) : BitVec 32 :=
  let c3_i32_1640 : BitVec 32 := 3#32
  let v3058 : BitVec 32 := Scalar.shrsi v3057 c3_i32_1640
  let c8191_i32_1641 : BitVec 32 := 8191#32
  let v3059 : BitVec 32 := Scalar.andi v3058 c8191_i32_1641
  let c8_i32_1642 : BitVec 32 := 8#32
  let v3060 : BitVec 32 := Scalar.muli v3059 c8_i32_1642
  v3060

def k0_off399 (v3057 : BitVec 32) : Fin 2 → Nat :=
  let c3_i32_1640 : BitVec 32 := 3#32
  let v3058 : BitVec 32 := Scalar.shrsi v3057 c3_i32_1640
  let c8191_i32_1641 : BitVec 32 := 8191#32
  let v3059 : BitVec 32 := Scalar.andi v3058 c8191_i32_1641
  let c8_i32_1642 : BitVec 32 := 8#32
  let v3060 : BitVec 32 := Scalar.muli v3059 c8_i32_1642
  let v3061 : BitVec 32 := v3060
  let v3062 : Index := Scalar.indexCast v3061
  let c0_1643 : Index := 0#32
  ![v3062.toNat, 0]
def k0_off400 (v3057 : BitVec 32) : Fin 2 → Nat :=
  let c3_i32_1640 : BitVec 32 := 3#32
  let v3058 : BitVec 32 := Scalar.shrsi v3057 c3_i32_1640
  let c8191_i32_1641 : BitVec 32 := 8191#32
  let v3059 : BitVec 32 := Scalar.andi v3058 c8191_i32_1641
  let v3067 : Index := Scalar.indexCast v3059
  let c0_1645 : Index := 0#32
  ![v3067.toNat, 0]

def k0_chk200 (i : grid0.Coords) (v3057 : BitVec 32) : Prop :=
  (∀ (k0_h1 : k0_cond1 i = 1#1), 8 ∣ (k0_mult200 v3057).toNat) ∧
  (∀ (k0_h1 : k0_cond1 i = 1#1), ∀ a, (k0_off399 v3057) a + S8x128.size a ≤ S65536x128.size a) ∧
  (∀ (k0_h1 : k0_cond1 i = 1#1), ∀ a, (k0_off400 v3057) a + S1x128.size a ≤ S8192x128.size a)
theorem k0_mult200_dvd : ∀ (i : grid0.Coords) (v3057 : BitVec 32) (k0_hw200 : k0_chk200 i v3057), ∀ (k0_h1 : k0_cond1 i = 1#1), 8 ∣ (k0_mult200 v3057).toNat := fun i v3057 k0_hw200 k0_h1 => k0_hw200.1 k0_h1
theorem k0_off399_inb : ∀ (i : grid0.Coords) (v3057 : BitVec 32) (k0_hw200 : k0_chk200 i v3057), ∀ (k0_h1 : k0_cond1 i = 1#1), ∀ a, (k0_off399 v3057) a + S8x128.size a ≤ S65536x128.size a := fun i v3057 k0_hw200 k0_h1 => k0_hw200.2.1 k0_h1
theorem k0_off400_inb : ∀ (i : grid0.Coords) (v3057 : BitVec 32) (k0_hw200 : k0_chk200 i v3057), ∀ (k0_h1 : k0_cond1 i = 1#1), ∀ a, (k0_off400 v3057) a + S1x128.size a ≤ S8192x128.size a := fun i v3057 k0_hw200 k0_h1 => k0_hw200.2.2 k0_h1

def k0_mult201 (v3072 : BitVec 32) : BitVec 32 :=
  let c3_i32_1649 : BitVec 32 := 3#32
  let v3073 : BitVec 32 := Scalar.shrsi v3072 c3_i32_1649
  let c8191_i32_1650 : BitVec 32 := 8191#32
  let v3074 : BitVec 32 := Scalar.andi v3073 c8191_i32_1650
  let c8_i32_1651 : BitVec 32 := 8#32
  let v3075 : BitVec 32 := Scalar.muli v3074 c8_i32_1651
  v3075

def k0_off401 (v3072 : BitVec 32) : Fin 2 → Nat :=
  let c3_i32_1649 : BitVec 32 := 3#32
  let v3073 : BitVec 32 := Scalar.shrsi v3072 c3_i32_1649
  let c8191_i32_1650 : BitVec 32 := 8191#32
  let v3074 : BitVec 32 := Scalar.andi v3073 c8191_i32_1650
  let c8_i32_1651 : BitVec 32 := 8#32
  let v3075 : BitVec 32 := Scalar.muli v3074 c8_i32_1651
  let v3076 : BitVec 32 := v3075
  let v3077 : Index := Scalar.indexCast v3076
  let c0_1652 : Index := 0#32
  ![v3077.toNat, 0]
def k0_off402 (v3072 : BitVec 32) : Fin 2 → Nat :=
  let c3_i32_1649 : BitVec 32 := 3#32
  let v3073 : BitVec 32 := Scalar.shrsi v3072 c3_i32_1649
  let c8191_i32_1650 : BitVec 32 := 8191#32
  let v3074 : BitVec 32 := Scalar.andi v3073 c8191_i32_1650
  let v3082 : Index := Scalar.indexCast v3074
  let c0_1654 : Index := 0#32
  ![v3082.toNat, 0]

def k0_chk201 (i : grid0.Coords) (v3072 : BitVec 32) : Prop :=
  (∀ (k0_h1 : k0_cond1 i = 1#1), 8 ∣ (k0_mult201 v3072).toNat) ∧
  (∀ (k0_h1 : k0_cond1 i = 1#1), ∀ a, (k0_off401 v3072) a + S8x128.size a ≤ S65536x128.size a) ∧
  (∀ (k0_h1 : k0_cond1 i = 1#1), ∀ a, (k0_off402 v3072) a + S1x128.size a ≤ S8192x128.size a)
theorem k0_mult201_dvd : ∀ (i : grid0.Coords) (v3072 : BitVec 32) (k0_hw201 : k0_chk201 i v3072), ∀ (k0_h1 : k0_cond1 i = 1#1), 8 ∣ (k0_mult201 v3072).toNat := fun i v3072 k0_hw201 k0_h1 => k0_hw201.1 k0_h1
theorem k0_off401_inb : ∀ (i : grid0.Coords) (v3072 : BitVec 32) (k0_hw201 : k0_chk201 i v3072), ∀ (k0_h1 : k0_cond1 i = 1#1), ∀ a, (k0_off401 v3072) a + S8x128.size a ≤ S65536x128.size a := fun i v3072 k0_hw201 k0_h1 => k0_hw201.2.1 k0_h1
theorem k0_off402_inb : ∀ (i : grid0.Coords) (v3072 : BitVec 32) (k0_hw201 : k0_chk201 i v3072), ∀ (k0_h1 : k0_cond1 i = 1#1), ∀ a, (k0_off402 v3072) a + S1x128.size a ≤ S8192x128.size a := fun i v3072 k0_hw201 k0_h1 => k0_hw201.2.2 k0_h1

def k0_mult202 (v3087 : BitVec 32) : BitVec 32 :=
  let c3_i32_1657 : BitVec 32 := 3#32
  let v3088 : BitVec 32 := Scalar.shrsi v3087 c3_i32_1657
  let c8191_i32_1658 : BitVec 32 := 8191#32
  let v3089 : BitVec 32 := Scalar.andi v3088 c8191_i32_1658
  let c8_i32_1659 : BitVec 32 := 8#32
  let v3090 : BitVec 32 := Scalar.muli v3089 c8_i32_1659
  v3090

def k0_off403 (v3087 : BitVec 32) : Fin 2 → Nat :=
  let c3_i32_1657 : BitVec 32 := 3#32
  let v3088 : BitVec 32 := Scalar.shrsi v3087 c3_i32_1657
  let c8191_i32_1658 : BitVec 32 := 8191#32
  let v3089 : BitVec 32 := Scalar.andi v3088 c8191_i32_1658
  let c8_i32_1659 : BitVec 32 := 8#32
  let v3090 : BitVec 32 := Scalar.muli v3089 c8_i32_1659
  let v3091 : BitVec 32 := v3090
  let v3092 : Index := Scalar.indexCast v3091
  let c0_1660 : Index := 0#32
  ![v3092.toNat, 0]
def k0_off404 (v3087 : BitVec 32) : Fin 2 → Nat :=
  let c3_i32_1657 : BitVec 32 := 3#32
  let v3088 : BitVec 32 := Scalar.shrsi v3087 c3_i32_1657
  let c8191_i32_1658 : BitVec 32 := 8191#32
  let v3089 : BitVec 32 := Scalar.andi v3088 c8191_i32_1658
  let v3097 : Index := Scalar.indexCast v3089
  let c0_1662 : Index := 0#32
  ![v3097.toNat, 0]

def k0_chk202 (i : grid0.Coords) (v3087 : BitVec 32) : Prop :=
  (∀ (k0_h1 : k0_cond1 i = 1#1), 8 ∣ (k0_mult202 v3087).toNat) ∧
  (∀ (k0_h1 : k0_cond1 i = 1#1), ∀ a, (k0_off403 v3087) a + S8x128.size a ≤ S65536x128.size a) ∧
  (∀ (k0_h1 : k0_cond1 i = 1#1), ∀ a, (k0_off404 v3087) a + S1x128.size a ≤ S8192x128.size a)
theorem k0_mult202_dvd : ∀ (i : grid0.Coords) (v3087 : BitVec 32) (k0_hw202 : k0_chk202 i v3087), ∀ (k0_h1 : k0_cond1 i = 1#1), 8 ∣ (k0_mult202 v3087).toNat := fun i v3087 k0_hw202 k0_h1 => k0_hw202.1 k0_h1
theorem k0_off403_inb : ∀ (i : grid0.Coords) (v3087 : BitVec 32) (k0_hw202 : k0_chk202 i v3087), ∀ (k0_h1 : k0_cond1 i = 1#1), ∀ a, (k0_off403 v3087) a + S8x128.size a ≤ S65536x128.size a := fun i v3087 k0_hw202 k0_h1 => k0_hw202.2.1 k0_h1
theorem k0_off404_inb : ∀ (i : grid0.Coords) (v3087 : BitVec 32) (k0_hw202 : k0_chk202 i v3087), ∀ (k0_h1 : k0_cond1 i = 1#1), ∀ a, (k0_off404 v3087) a + S1x128.size a ≤ S8192x128.size a := fun i v3087 k0_hw202 k0_h1 => k0_hw202.2.2 k0_h1

def k0_mult203 (v3102 : BitVec 32) : BitVec 32 :=
  let c3_i32_1665 : BitVec 32 := 3#32
  let v3103 : BitVec 32 := Scalar.shrsi v3102 c3_i32_1665
  let c8191_i32_1666 : BitVec 32 := 8191#32
  let v3104 : BitVec 32 := Scalar.andi v3103 c8191_i32_1666
  let c8_i32_1667 : BitVec 32 := 8#32
  let v3105 : BitVec 32 := Scalar.muli v3104 c8_i32_1667
  v3105

def k0_off405 (v3102 : BitVec 32) : Fin 2 → Nat :=
  let c3_i32_1665 : BitVec 32 := 3#32
  let v3103 : BitVec 32 := Scalar.shrsi v3102 c3_i32_1665
  let c8191_i32_1666 : BitVec 32 := 8191#32
  let v3104 : BitVec 32 := Scalar.andi v3103 c8191_i32_1666
  let c8_i32_1667 : BitVec 32 := 8#32
  let v3105 : BitVec 32 := Scalar.muli v3104 c8_i32_1667
  let v3106 : BitVec 32 := v3105
  let v3107 : Index := Scalar.indexCast v3106
  let c0_1668 : Index := 0#32
  ![v3107.toNat, 0]
def k0_off406 (v3102 : BitVec 32) : Fin 2 → Nat :=
  let c3_i32_1665 : BitVec 32 := 3#32
  let v3103 : BitVec 32 := Scalar.shrsi v3102 c3_i32_1665
  let c8191_i32_1666 : BitVec 32 := 8191#32
  let v3104 : BitVec 32 := Scalar.andi v3103 c8191_i32_1666
  let v3112 : Index := Scalar.indexCast v3104
  let c0_1670 : Index := 0#32
  ![v3112.toNat, 0]

def k0_chk203 (i : grid0.Coords) (v3102 : BitVec 32) : Prop :=
  (∀ (k0_h1 : k0_cond1 i = 1#1), 8 ∣ (k0_mult203 v3102).toNat) ∧
  (∀ (k0_h1 : k0_cond1 i = 1#1), ∀ a, (k0_off405 v3102) a + S8x128.size a ≤ S65536x128.size a) ∧
  (∀ (k0_h1 : k0_cond1 i = 1#1), ∀ a, (k0_off406 v3102) a + S1x128.size a ≤ S8192x128.size a)
theorem k0_mult203_dvd : ∀ (i : grid0.Coords) (v3102 : BitVec 32) (k0_hw203 : k0_chk203 i v3102), ∀ (k0_h1 : k0_cond1 i = 1#1), 8 ∣ (k0_mult203 v3102).toNat := fun i v3102 k0_hw203 k0_h1 => k0_hw203.1 k0_h1
theorem k0_off405_inb : ∀ (i : grid0.Coords) (v3102 : BitVec 32) (k0_hw203 : k0_chk203 i v3102), ∀ (k0_h1 : k0_cond1 i = 1#1), ∀ a, (k0_off405 v3102) a + S8x128.size a ≤ S65536x128.size a := fun i v3102 k0_hw203 k0_h1 => k0_hw203.2.1 k0_h1
theorem k0_off406_inb : ∀ (i : grid0.Coords) (v3102 : BitVec 32) (k0_hw203 : k0_chk203 i v3102), ∀ (k0_h1 : k0_cond1 i = 1#1), ∀ a, (k0_off406 v3102) a + S1x128.size a ≤ S8192x128.size a := fun i v3102 k0_hw203 k0_h1 => k0_hw203.2.2 k0_h1

def k0_mult204 (v3117 : BitVec 32) : BitVec 32 :=
  let c3_i32_1673 : BitVec 32 := 3#32
  let v3118 : BitVec 32 := Scalar.shrsi v3117 c3_i32_1673
  let c8191_i32_1674 : BitVec 32 := 8191#32
  let v3119 : BitVec 32 := Scalar.andi v3118 c8191_i32_1674
  let c8_i32_1675 : BitVec 32 := 8#32
  let v3120 : BitVec 32 := Scalar.muli v3119 c8_i32_1675
  v3120

def k0_off407 (v3117 : BitVec 32) : Fin 2 → Nat :=
  let c3_i32_1673 : BitVec 32 := 3#32
  let v3118 : BitVec 32 := Scalar.shrsi v3117 c3_i32_1673
  let c8191_i32_1674 : BitVec 32 := 8191#32
  let v3119 : BitVec 32 := Scalar.andi v3118 c8191_i32_1674
  let c8_i32_1675 : BitVec 32 := 8#32
  let v3120 : BitVec 32 := Scalar.muli v3119 c8_i32_1675
  let v3121 : BitVec 32 := v3120
  let v3122 : Index := Scalar.indexCast v3121
  let c0_1676 : Index := 0#32
  ![v3122.toNat, 0]
def k0_off408 (v3117 : BitVec 32) : Fin 2 → Nat :=
  let c3_i32_1673 : BitVec 32 := 3#32
  let v3118 : BitVec 32 := Scalar.shrsi v3117 c3_i32_1673
  let c8191_i32_1674 : BitVec 32 := 8191#32
  let v3119 : BitVec 32 := Scalar.andi v3118 c8191_i32_1674
  let v3127 : Index := Scalar.indexCast v3119
  let c0_1678 : Index := 0#32
  ![v3127.toNat, 0]

def k0_chk204 (i : grid0.Coords) (v3117 : BitVec 32) : Prop :=
  (∀ (k0_h1 : k0_cond1 i = 1#1), 8 ∣ (k0_mult204 v3117).toNat) ∧
  (∀ (k0_h1 : k0_cond1 i = 1#1), ∀ a, (k0_off407 v3117) a + S8x128.size a ≤ S65536x128.size a) ∧
  (∀ (k0_h1 : k0_cond1 i = 1#1), ∀ a, (k0_off408 v3117) a + S1x128.size a ≤ S8192x128.size a)
theorem k0_mult204_dvd : ∀ (i : grid0.Coords) (v3117 : BitVec 32) (k0_hw204 : k0_chk204 i v3117), ∀ (k0_h1 : k0_cond1 i = 1#1), 8 ∣ (k0_mult204 v3117).toNat := fun i v3117 k0_hw204 k0_h1 => k0_hw204.1 k0_h1
theorem k0_off407_inb : ∀ (i : grid0.Coords) (v3117 : BitVec 32) (k0_hw204 : k0_chk204 i v3117), ∀ (k0_h1 : k0_cond1 i = 1#1), ∀ a, (k0_off407 v3117) a + S8x128.size a ≤ S65536x128.size a := fun i v3117 k0_hw204 k0_h1 => k0_hw204.2.1 k0_h1
theorem k0_off408_inb : ∀ (i : grid0.Coords) (v3117 : BitVec 32) (k0_hw204 : k0_chk204 i v3117), ∀ (k0_h1 : k0_cond1 i = 1#1), ∀ a, (k0_off408 v3117) a + S1x128.size a ≤ S8192x128.size a := fun i v3117 k0_hw204 k0_h1 => k0_hw204.2.2 k0_h1

def k0_mult205 (v3132 : BitVec 32) : BitVec 32 :=
  let c3_i32_1681 : BitVec 32 := 3#32
  let v3133 : BitVec 32 := Scalar.shrsi v3132 c3_i32_1681
  let c8191_i32_1682 : BitVec 32 := 8191#32
  let v3134 : BitVec 32 := Scalar.andi v3133 c8191_i32_1682
  let c8_i32_1683 : BitVec 32 := 8#32
  let v3135 : BitVec 32 := Scalar.muli v3134 c8_i32_1683
  v3135

def k0_off409 (v3132 : BitVec 32) : Fin 2 → Nat :=
  let c3_i32_1681 : BitVec 32 := 3#32
  let v3133 : BitVec 32 := Scalar.shrsi v3132 c3_i32_1681
  let c8191_i32_1682 : BitVec 32 := 8191#32
  let v3134 : BitVec 32 := Scalar.andi v3133 c8191_i32_1682
  let c8_i32_1683 : BitVec 32 := 8#32
  let v3135 : BitVec 32 := Scalar.muli v3134 c8_i32_1683
  let v3136 : BitVec 32 := v3135
  let v3137 : Index := Scalar.indexCast v3136
  let c0_1684 : Index := 0#32
  ![v3137.toNat, 0]
def k0_off410 (v3132 : BitVec 32) : Fin 2 → Nat :=
  let c3_i32_1681 : BitVec 32 := 3#32
  let v3133 : BitVec 32 := Scalar.shrsi v3132 c3_i32_1681
  let c8191_i32_1682 : BitVec 32 := 8191#32
  let v3134 : BitVec 32 := Scalar.andi v3133 c8191_i32_1682
  let v3142 : Index := Scalar.indexCast v3134
  let c0_1686 : Index := 0#32
  ![v3142.toNat, 0]

def k0_chk205 (i : grid0.Coords) (v3132 : BitVec 32) : Prop :=
  (∀ (k0_h1 : k0_cond1 i = 1#1), 8 ∣ (k0_mult205 v3132).toNat) ∧
  (∀ (k0_h1 : k0_cond1 i = 1#1), ∀ a, (k0_off409 v3132) a + S8x128.size a ≤ S65536x128.size a) ∧
  (∀ (k0_h1 : k0_cond1 i = 1#1), ∀ a, (k0_off410 v3132) a + S1x128.size a ≤ S8192x128.size a)
theorem k0_mult205_dvd : ∀ (i : grid0.Coords) (v3132 : BitVec 32) (k0_hw205 : k0_chk205 i v3132), ∀ (k0_h1 : k0_cond1 i = 1#1), 8 ∣ (k0_mult205 v3132).toNat := fun i v3132 k0_hw205 k0_h1 => k0_hw205.1 k0_h1
theorem k0_off409_inb : ∀ (i : grid0.Coords) (v3132 : BitVec 32) (k0_hw205 : k0_chk205 i v3132), ∀ (k0_h1 : k0_cond1 i = 1#1), ∀ a, (k0_off409 v3132) a + S8x128.size a ≤ S65536x128.size a := fun i v3132 k0_hw205 k0_h1 => k0_hw205.2.1 k0_h1
theorem k0_off410_inb : ∀ (i : grid0.Coords) (v3132 : BitVec 32) (k0_hw205 : k0_chk205 i v3132), ∀ (k0_h1 : k0_cond1 i = 1#1), ∀ a, (k0_off410 v3132) a + S1x128.size a ≤ S8192x128.size a := fun i v3132 k0_hw205 k0_h1 => k0_hw205.2.2 k0_h1

def k0_mult206 (v3147 : BitVec 32) : BitVec 32 :=
  let c3_i32_1689 : BitVec 32 := 3#32
  let v3148 : BitVec 32 := Scalar.shrsi v3147 c3_i32_1689
  let c8191_i32_1690 : BitVec 32 := 8191#32
  let v3149 : BitVec 32 := Scalar.andi v3148 c8191_i32_1690
  let c8_i32_1691 : BitVec 32 := 8#32
  let v3150 : BitVec 32 := Scalar.muli v3149 c8_i32_1691
  v3150

def k0_off411 (v3147 : BitVec 32) : Fin 2 → Nat :=
  let c3_i32_1689 : BitVec 32 := 3#32
  let v3148 : BitVec 32 := Scalar.shrsi v3147 c3_i32_1689
  let c8191_i32_1690 : BitVec 32 := 8191#32
  let v3149 : BitVec 32 := Scalar.andi v3148 c8191_i32_1690
  let c8_i32_1691 : BitVec 32 := 8#32
  let v3150 : BitVec 32 := Scalar.muli v3149 c8_i32_1691
  let v3151 : BitVec 32 := v3150
  let v3152 : Index := Scalar.indexCast v3151
  let c0_1692 : Index := 0#32
  ![v3152.toNat, 0]
def k0_off412 (v3147 : BitVec 32) : Fin 2 → Nat :=
  let c3_i32_1689 : BitVec 32 := 3#32
  let v3148 : BitVec 32 := Scalar.shrsi v3147 c3_i32_1689
  let c8191_i32_1690 : BitVec 32 := 8191#32
  let v3149 : BitVec 32 := Scalar.andi v3148 c8191_i32_1690
  let v3157 : Index := Scalar.indexCast v3149
  let c0_1694 : Index := 0#32
  ![v3157.toNat, 0]

def k0_chk206 (i : grid0.Coords) (v3147 : BitVec 32) : Prop :=
  (∀ (k0_h1 : k0_cond1 i = 1#1), 8 ∣ (k0_mult206 v3147).toNat) ∧
  (∀ (k0_h1 : k0_cond1 i = 1#1), ∀ a, (k0_off411 v3147) a + S8x128.size a ≤ S65536x128.size a) ∧
  (∀ (k0_h1 : k0_cond1 i = 1#1), ∀ a, (k0_off412 v3147) a + S1x128.size a ≤ S8192x128.size a)
theorem k0_mult206_dvd : ∀ (i : grid0.Coords) (v3147 : BitVec 32) (k0_hw206 : k0_chk206 i v3147), ∀ (k0_h1 : k0_cond1 i = 1#1), 8 ∣ (k0_mult206 v3147).toNat := fun i v3147 k0_hw206 k0_h1 => k0_hw206.1 k0_h1
theorem k0_off411_inb : ∀ (i : grid0.Coords) (v3147 : BitVec 32) (k0_hw206 : k0_chk206 i v3147), ∀ (k0_h1 : k0_cond1 i = 1#1), ∀ a, (k0_off411 v3147) a + S8x128.size a ≤ S65536x128.size a := fun i v3147 k0_hw206 k0_h1 => k0_hw206.2.1 k0_h1
theorem k0_off412_inb : ∀ (i : grid0.Coords) (v3147 : BitVec 32) (k0_hw206 : k0_chk206 i v3147), ∀ (k0_h1 : k0_cond1 i = 1#1), ∀ a, (k0_off412 v3147) a + S1x128.size a ≤ S8192x128.size a := fun i v3147 k0_hw206 k0_h1 => k0_hw206.2.2 k0_h1

def k0_mult207 (v3162 : BitVec 32) : BitVec 32 :=
  let c3_i32_1697 : BitVec 32 := 3#32
  let v3163 : BitVec 32 := Scalar.shrsi v3162 c3_i32_1697
  let c8191_i32_1698 : BitVec 32 := 8191#32
  let v3164 : BitVec 32 := Scalar.andi v3163 c8191_i32_1698
  let c8_i32_1699 : BitVec 32 := 8#32
  let v3165 : BitVec 32 := Scalar.muli v3164 c8_i32_1699
  v3165

def k0_off413 (v3162 : BitVec 32) : Fin 2 → Nat :=
  let c3_i32_1697 : BitVec 32 := 3#32
  let v3163 : BitVec 32 := Scalar.shrsi v3162 c3_i32_1697
  let c8191_i32_1698 : BitVec 32 := 8191#32
  let v3164 : BitVec 32 := Scalar.andi v3163 c8191_i32_1698
  let c8_i32_1699 : BitVec 32 := 8#32
  let v3165 : BitVec 32 := Scalar.muli v3164 c8_i32_1699
  let v3166 : BitVec 32 := v3165
  let v3167 : Index := Scalar.indexCast v3166
  let c0_1700 : Index := 0#32
  ![v3167.toNat, 0]
def k0_off414 (v3162 : BitVec 32) : Fin 2 → Nat :=
  let c3_i32_1697 : BitVec 32 := 3#32
  let v3163 : BitVec 32 := Scalar.shrsi v3162 c3_i32_1697
  let c8191_i32_1698 : BitVec 32 := 8191#32
  let v3164 : BitVec 32 := Scalar.andi v3163 c8191_i32_1698
  let v3172 : Index := Scalar.indexCast v3164
  let c0_1702 : Index := 0#32
  ![v3172.toNat, 0]

def k0_chk207 (i : grid0.Coords) (v3162 : BitVec 32) : Prop :=
  (∀ (k0_h1 : k0_cond1 i = 1#1), 8 ∣ (k0_mult207 v3162).toNat) ∧
  (∀ (k0_h1 : k0_cond1 i = 1#1), ∀ a, (k0_off413 v3162) a + S8x128.size a ≤ S65536x128.size a) ∧
  (∀ (k0_h1 : k0_cond1 i = 1#1), ∀ a, (k0_off414 v3162) a + S1x128.size a ≤ S8192x128.size a)
theorem k0_mult207_dvd : ∀ (i : grid0.Coords) (v3162 : BitVec 32) (k0_hw207 : k0_chk207 i v3162), ∀ (k0_h1 : k0_cond1 i = 1#1), 8 ∣ (k0_mult207 v3162).toNat := fun i v3162 k0_hw207 k0_h1 => k0_hw207.1 k0_h1
theorem k0_off413_inb : ∀ (i : grid0.Coords) (v3162 : BitVec 32) (k0_hw207 : k0_chk207 i v3162), ∀ (k0_h1 : k0_cond1 i = 1#1), ∀ a, (k0_off413 v3162) a + S8x128.size a ≤ S65536x128.size a := fun i v3162 k0_hw207 k0_h1 => k0_hw207.2.1 k0_h1
theorem k0_off414_inb : ∀ (i : grid0.Coords) (v3162 : BitVec 32) (k0_hw207 : k0_chk207 i v3162), ∀ (k0_h1 : k0_cond1 i = 1#1), ∀ a, (k0_off414 v3162) a + S1x128.size a ≤ S8192x128.size a := fun i v3162 k0_hw207 k0_h1 => k0_hw207.2.2 k0_h1

def k0_mult208 (v3177 : BitVec 32) : BitVec 32 :=
  let c3_i32_1705 : BitVec 32 := 3#32
  let v3178 : BitVec 32 := Scalar.shrsi v3177 c3_i32_1705
  let c8191_i32_1706 : BitVec 32 := 8191#32
  let v3179 : BitVec 32 := Scalar.andi v3178 c8191_i32_1706
  let c8_i32_1707 : BitVec 32 := 8#32
  let v3180 : BitVec 32 := Scalar.muli v3179 c8_i32_1707
  v3180

def k0_off415 (v3177 : BitVec 32) : Fin 2 → Nat :=
  let c3_i32_1705 : BitVec 32 := 3#32
  let v3178 : BitVec 32 := Scalar.shrsi v3177 c3_i32_1705
  let c8191_i32_1706 : BitVec 32 := 8191#32
  let v3179 : BitVec 32 := Scalar.andi v3178 c8191_i32_1706
  let c8_i32_1707 : BitVec 32 := 8#32
  let v3180 : BitVec 32 := Scalar.muli v3179 c8_i32_1707
  let v3181 : BitVec 32 := v3180
  let v3182 : Index := Scalar.indexCast v3181
  let c0_1708 : Index := 0#32
  ![v3182.toNat, 0]
def k0_off416 (v3177 : BitVec 32) : Fin 2 → Nat :=
  let c3_i32_1705 : BitVec 32 := 3#32
  let v3178 : BitVec 32 := Scalar.shrsi v3177 c3_i32_1705
  let c8191_i32_1706 : BitVec 32 := 8191#32
  let v3179 : BitVec 32 := Scalar.andi v3178 c8191_i32_1706
  let v3187 : Index := Scalar.indexCast v3179
  let c0_1710 : Index := 0#32
  ![v3187.toNat, 0]

def k0_chk208 (i : grid0.Coords) (v3177 : BitVec 32) : Prop :=
  (∀ (k0_h1 : k0_cond1 i = 1#1), 8 ∣ (k0_mult208 v3177).toNat) ∧
  (∀ (k0_h1 : k0_cond1 i = 1#1), ∀ a, (k0_off415 v3177) a + S8x128.size a ≤ S65536x128.size a) ∧
  (∀ (k0_h1 : k0_cond1 i = 1#1), ∀ a, (k0_off416 v3177) a + S1x128.size a ≤ S8192x128.size a)
theorem k0_mult208_dvd : ∀ (i : grid0.Coords) (v3177 : BitVec 32) (k0_hw208 : k0_chk208 i v3177), ∀ (k0_h1 : k0_cond1 i = 1#1), 8 ∣ (k0_mult208 v3177).toNat := fun i v3177 k0_hw208 k0_h1 => k0_hw208.1 k0_h1
theorem k0_off415_inb : ∀ (i : grid0.Coords) (v3177 : BitVec 32) (k0_hw208 : k0_chk208 i v3177), ∀ (k0_h1 : k0_cond1 i = 1#1), ∀ a, (k0_off415 v3177) a + S8x128.size a ≤ S65536x128.size a := fun i v3177 k0_hw208 k0_h1 => k0_hw208.2.1 k0_h1
theorem k0_off416_inb : ∀ (i : grid0.Coords) (v3177 : BitVec 32) (k0_hw208 : k0_chk208 i v3177), ∀ (k0_h1 : k0_cond1 i = 1#1), ∀ a, (k0_off416 v3177) a + S1x128.size a ≤ S8192x128.size a := fun i v3177 k0_hw208 k0_h1 => k0_hw208.2.2 k0_h1

def k0_mult209 (v3192 : BitVec 32) : BitVec 32 :=
  let c3_i32_1714 : BitVec 32 := 3#32
  let v3193 : BitVec 32 := Scalar.shrsi v3192 c3_i32_1714
  let c8191_i32_1715 : BitVec 32 := 8191#32
  let v3194 : BitVec 32 := Scalar.andi v3193 c8191_i32_1715
  let c8_i32_1716 : BitVec 32 := 8#32
  let v3195 : BitVec 32 := Scalar.muli v3194 c8_i32_1716
  v3195

def k0_off417 (v3192 : BitVec 32) : Fin 2 → Nat :=
  let c3_i32_1714 : BitVec 32 := 3#32
  let v3193 : BitVec 32 := Scalar.shrsi v3192 c3_i32_1714
  let c8191_i32_1715 : BitVec 32 := 8191#32
  let v3194 : BitVec 32 := Scalar.andi v3193 c8191_i32_1715
  let c8_i32_1716 : BitVec 32 := 8#32
  let v3195 : BitVec 32 := Scalar.muli v3194 c8_i32_1716
  let v3196 : BitVec 32 := v3195
  let v3197 : Index := Scalar.indexCast v3196
  let c0_1717 : Index := 0#32
  ![v3197.toNat, 0]
def k0_off418 (v3192 : BitVec 32) : Fin 2 → Nat :=
  let c3_i32_1714 : BitVec 32 := 3#32
  let v3193 : BitVec 32 := Scalar.shrsi v3192 c3_i32_1714
  let c8191_i32_1715 : BitVec 32 := 8191#32
  let v3194 : BitVec 32 := Scalar.andi v3193 c8191_i32_1715
  let v3202 : Index := Scalar.indexCast v3194
  let c0_1719 : Index := 0#32
  ![v3202.toNat, 0]

def k0_chk209 (i : grid0.Coords) (v3192 : BitVec 32) : Prop :=
  (∀ (k0_h1 : k0_cond1 i = 1#1), 8 ∣ (k0_mult209 v3192).toNat) ∧
  (∀ (k0_h1 : k0_cond1 i = 1#1), ∀ a, (k0_off417 v3192) a + S8x128.size a ≤ S65536x128.size a) ∧
  (∀ (k0_h1 : k0_cond1 i = 1#1), ∀ a, (k0_off418 v3192) a + S1x128.size a ≤ S8192x128.size a)
theorem k0_mult209_dvd : ∀ (i : grid0.Coords) (v3192 : BitVec 32) (k0_hw209 : k0_chk209 i v3192), ∀ (k0_h1 : k0_cond1 i = 1#1), 8 ∣ (k0_mult209 v3192).toNat := fun i v3192 k0_hw209 k0_h1 => k0_hw209.1 k0_h1
theorem k0_off417_inb : ∀ (i : grid0.Coords) (v3192 : BitVec 32) (k0_hw209 : k0_chk209 i v3192), ∀ (k0_h1 : k0_cond1 i = 1#1), ∀ a, (k0_off417 v3192) a + S8x128.size a ≤ S65536x128.size a := fun i v3192 k0_hw209 k0_h1 => k0_hw209.2.1 k0_h1
theorem k0_off418_inb : ∀ (i : grid0.Coords) (v3192 : BitVec 32) (k0_hw209 : k0_chk209 i v3192), ∀ (k0_h1 : k0_cond1 i = 1#1), ∀ a, (k0_off418 v3192) a + S1x128.size a ≤ S8192x128.size a := fun i v3192 k0_hw209 k0_h1 => k0_hw209.2.2 k0_h1

def k0_mult210 (v3207 : BitVec 32) : BitVec 32 :=
  let c3_i32_1722 : BitVec 32 := 3#32
  let v3208 : BitVec 32 := Scalar.shrsi v3207 c3_i32_1722
  let c8191_i32_1723 : BitVec 32 := 8191#32
  let v3209 : BitVec 32 := Scalar.andi v3208 c8191_i32_1723
  let c8_i32_1724 : BitVec 32 := 8#32
  let v3210 : BitVec 32 := Scalar.muli v3209 c8_i32_1724
  v3210

def k0_off419 (v3207 : BitVec 32) : Fin 2 → Nat :=
  let c3_i32_1722 : BitVec 32 := 3#32
  let v3208 : BitVec 32 := Scalar.shrsi v3207 c3_i32_1722
  let c8191_i32_1723 : BitVec 32 := 8191#32
  let v3209 : BitVec 32 := Scalar.andi v3208 c8191_i32_1723
  let c8_i32_1724 : BitVec 32 := 8#32
  let v3210 : BitVec 32 := Scalar.muli v3209 c8_i32_1724
  let v3211 : BitVec 32 := v3210
  let v3212 : Index := Scalar.indexCast v3211
  let c0_1725 : Index := 0#32
  ![v3212.toNat, 0]
def k0_off420 (v3207 : BitVec 32) : Fin 2 → Nat :=
  let c3_i32_1722 : BitVec 32 := 3#32
  let v3208 : BitVec 32 := Scalar.shrsi v3207 c3_i32_1722
  let c8191_i32_1723 : BitVec 32 := 8191#32
  let v3209 : BitVec 32 := Scalar.andi v3208 c8191_i32_1723
  let v3217 : Index := Scalar.indexCast v3209
  let c0_1727 : Index := 0#32
  ![v3217.toNat, 0]

def k0_chk210 (i : grid0.Coords) (v3207 : BitVec 32) : Prop :=
  (∀ (k0_h1 : k0_cond1 i = 1#1), 8 ∣ (k0_mult210 v3207).toNat) ∧
  (∀ (k0_h1 : k0_cond1 i = 1#1), ∀ a, (k0_off419 v3207) a + S8x128.size a ≤ S65536x128.size a) ∧
  (∀ (k0_h1 : k0_cond1 i = 1#1), ∀ a, (k0_off420 v3207) a + S1x128.size a ≤ S8192x128.size a)
theorem k0_mult210_dvd : ∀ (i : grid0.Coords) (v3207 : BitVec 32) (k0_hw210 : k0_chk210 i v3207), ∀ (k0_h1 : k0_cond1 i = 1#1), 8 ∣ (k0_mult210 v3207).toNat := fun i v3207 k0_hw210 k0_h1 => k0_hw210.1 k0_h1
theorem k0_off419_inb : ∀ (i : grid0.Coords) (v3207 : BitVec 32) (k0_hw210 : k0_chk210 i v3207), ∀ (k0_h1 : k0_cond1 i = 1#1), ∀ a, (k0_off419 v3207) a + S8x128.size a ≤ S65536x128.size a := fun i v3207 k0_hw210 k0_h1 => k0_hw210.2.1 k0_h1
theorem k0_off420_inb : ∀ (i : grid0.Coords) (v3207 : BitVec 32) (k0_hw210 : k0_chk210 i v3207), ∀ (k0_h1 : k0_cond1 i = 1#1), ∀ a, (k0_off420 v3207) a + S1x128.size a ≤ S8192x128.size a := fun i v3207 k0_hw210 k0_h1 => k0_hw210.2.2 k0_h1

def k0_mult211 (v3222 : BitVec 32) : BitVec 32 :=
  let c3_i32_1730 : BitVec 32 := 3#32
  let v3223 : BitVec 32 := Scalar.shrsi v3222 c3_i32_1730
  let c8191_i32_1731 : BitVec 32 := 8191#32
  let v3224 : BitVec 32 := Scalar.andi v3223 c8191_i32_1731
  let c8_i32_1732 : BitVec 32 := 8#32
  let v3225 : BitVec 32 := Scalar.muli v3224 c8_i32_1732
  v3225

def k0_off421 (v3222 : BitVec 32) : Fin 2 → Nat :=
  let c3_i32_1730 : BitVec 32 := 3#32
  let v3223 : BitVec 32 := Scalar.shrsi v3222 c3_i32_1730
  let c8191_i32_1731 : BitVec 32 := 8191#32
  let v3224 : BitVec 32 := Scalar.andi v3223 c8191_i32_1731
  let c8_i32_1732 : BitVec 32 := 8#32
  let v3225 : BitVec 32 := Scalar.muli v3224 c8_i32_1732
  let v3226 : BitVec 32 := v3225
  let v3227 : Index := Scalar.indexCast v3226
  let c0_1733 : Index := 0#32
  ![v3227.toNat, 0]
def k0_off422 (v3222 : BitVec 32) : Fin 2 → Nat :=
  let c3_i32_1730 : BitVec 32 := 3#32
  let v3223 : BitVec 32 := Scalar.shrsi v3222 c3_i32_1730
  let c8191_i32_1731 : BitVec 32 := 8191#32
  let v3224 : BitVec 32 := Scalar.andi v3223 c8191_i32_1731
  let v3232 : Index := Scalar.indexCast v3224
  let c0_1735 : Index := 0#32
  ![v3232.toNat, 0]

def k0_chk211 (i : grid0.Coords) (v3222 : BitVec 32) : Prop :=
  (∀ (k0_h1 : k0_cond1 i = 1#1), 8 ∣ (k0_mult211 v3222).toNat) ∧
  (∀ (k0_h1 : k0_cond1 i = 1#1), ∀ a, (k0_off421 v3222) a + S8x128.size a ≤ S65536x128.size a) ∧
  (∀ (k0_h1 : k0_cond1 i = 1#1), ∀ a, (k0_off422 v3222) a + S1x128.size a ≤ S8192x128.size a)
theorem k0_mult211_dvd : ∀ (i : grid0.Coords) (v3222 : BitVec 32) (k0_hw211 : k0_chk211 i v3222), ∀ (k0_h1 : k0_cond1 i = 1#1), 8 ∣ (k0_mult211 v3222).toNat := fun i v3222 k0_hw211 k0_h1 => k0_hw211.1 k0_h1
theorem k0_off421_inb : ∀ (i : grid0.Coords) (v3222 : BitVec 32) (k0_hw211 : k0_chk211 i v3222), ∀ (k0_h1 : k0_cond1 i = 1#1), ∀ a, (k0_off421 v3222) a + S8x128.size a ≤ S65536x128.size a := fun i v3222 k0_hw211 k0_h1 => k0_hw211.2.1 k0_h1
theorem k0_off422_inb : ∀ (i : grid0.Coords) (v3222 : BitVec 32) (k0_hw211 : k0_chk211 i v3222), ∀ (k0_h1 : k0_cond1 i = 1#1), ∀ a, (k0_off422 v3222) a + S1x128.size a ≤ S8192x128.size a := fun i v3222 k0_hw211 k0_h1 => k0_hw211.2.2 k0_h1

def k0_mult212 (v3237 : BitVec 32) : BitVec 32 :=
  let c3_i32_1738 : BitVec 32 := 3#32
  let v3238 : BitVec 32 := Scalar.shrsi v3237 c3_i32_1738
  let c8191_i32_1739 : BitVec 32 := 8191#32
  let v3239 : BitVec 32 := Scalar.andi v3238 c8191_i32_1739
  let c8_i32_1740 : BitVec 32 := 8#32
  let v3240 : BitVec 32 := Scalar.muli v3239 c8_i32_1740
  v3240

def k0_off423 (v3237 : BitVec 32) : Fin 2 → Nat :=
  let c3_i32_1738 : BitVec 32 := 3#32
  let v3238 : BitVec 32 := Scalar.shrsi v3237 c3_i32_1738
  let c8191_i32_1739 : BitVec 32 := 8191#32
  let v3239 : BitVec 32 := Scalar.andi v3238 c8191_i32_1739
  let c8_i32_1740 : BitVec 32 := 8#32
  let v3240 : BitVec 32 := Scalar.muli v3239 c8_i32_1740
  let v3241 : BitVec 32 := v3240
  let v3242 : Index := Scalar.indexCast v3241
  let c0_1741 : Index := 0#32
  ![v3242.toNat, 0]
def k0_off424 (v3237 : BitVec 32) : Fin 2 → Nat :=
  let c3_i32_1738 : BitVec 32 := 3#32
  let v3238 : BitVec 32 := Scalar.shrsi v3237 c3_i32_1738
  let c8191_i32_1739 : BitVec 32 := 8191#32
  let v3239 : BitVec 32 := Scalar.andi v3238 c8191_i32_1739
  let v3247 : Index := Scalar.indexCast v3239
  let c0_1743 : Index := 0#32
  ![v3247.toNat, 0]

def k0_chk212 (i : grid0.Coords) (v3237 : BitVec 32) : Prop :=
  (∀ (k0_h1 : k0_cond1 i = 1#1), 8 ∣ (k0_mult212 v3237).toNat) ∧
  (∀ (k0_h1 : k0_cond1 i = 1#1), ∀ a, (k0_off423 v3237) a + S8x128.size a ≤ S65536x128.size a) ∧
  (∀ (k0_h1 : k0_cond1 i = 1#1), ∀ a, (k0_off424 v3237) a + S1x128.size a ≤ S8192x128.size a)
theorem k0_mult212_dvd : ∀ (i : grid0.Coords) (v3237 : BitVec 32) (k0_hw212 : k0_chk212 i v3237), ∀ (k0_h1 : k0_cond1 i = 1#1), 8 ∣ (k0_mult212 v3237).toNat := fun i v3237 k0_hw212 k0_h1 => k0_hw212.1 k0_h1
theorem k0_off423_inb : ∀ (i : grid0.Coords) (v3237 : BitVec 32) (k0_hw212 : k0_chk212 i v3237), ∀ (k0_h1 : k0_cond1 i = 1#1), ∀ a, (k0_off423 v3237) a + S8x128.size a ≤ S65536x128.size a := fun i v3237 k0_hw212 k0_h1 => k0_hw212.2.1 k0_h1
theorem k0_off424_inb : ∀ (i : grid0.Coords) (v3237 : BitVec 32) (k0_hw212 : k0_chk212 i v3237), ∀ (k0_h1 : k0_cond1 i = 1#1), ∀ a, (k0_off424 v3237) a + S1x128.size a ≤ S8192x128.size a := fun i v3237 k0_hw212 k0_h1 => k0_hw212.2.2 k0_h1

def k0_mult213 (v3252 : BitVec 32) : BitVec 32 :=
  let c3_i32_1746 : BitVec 32 := 3#32
  let v3253 : BitVec 32 := Scalar.shrsi v3252 c3_i32_1746
  let c8191_i32_1747 : BitVec 32 := 8191#32
  let v3254 : BitVec 32 := Scalar.andi v3253 c8191_i32_1747
  let c8_i32_1748 : BitVec 32 := 8#32
  let v3255 : BitVec 32 := Scalar.muli v3254 c8_i32_1748
  v3255

def k0_off425 (v3252 : BitVec 32) : Fin 2 → Nat :=
  let c3_i32_1746 : BitVec 32 := 3#32
  let v3253 : BitVec 32 := Scalar.shrsi v3252 c3_i32_1746
  let c8191_i32_1747 : BitVec 32 := 8191#32
  let v3254 : BitVec 32 := Scalar.andi v3253 c8191_i32_1747
  let c8_i32_1748 : BitVec 32 := 8#32
  let v3255 : BitVec 32 := Scalar.muli v3254 c8_i32_1748
  let v3256 : BitVec 32 := v3255
  let v3257 : Index := Scalar.indexCast v3256
  let c0_1749 : Index := 0#32
  ![v3257.toNat, 0]
def k0_off426 (v3252 : BitVec 32) : Fin 2 → Nat :=
  let c3_i32_1746 : BitVec 32 := 3#32
  let v3253 : BitVec 32 := Scalar.shrsi v3252 c3_i32_1746
  let c8191_i32_1747 : BitVec 32 := 8191#32
  let v3254 : BitVec 32 := Scalar.andi v3253 c8191_i32_1747
  let v3262 : Index := Scalar.indexCast v3254
  let c0_1751 : Index := 0#32
  ![v3262.toNat, 0]

def k0_chk213 (i : grid0.Coords) (v3252 : BitVec 32) : Prop :=
  (∀ (k0_h1 : k0_cond1 i = 1#1), 8 ∣ (k0_mult213 v3252).toNat) ∧
  (∀ (k0_h1 : k0_cond1 i = 1#1), ∀ a, (k0_off425 v3252) a + S8x128.size a ≤ S65536x128.size a) ∧
  (∀ (k0_h1 : k0_cond1 i = 1#1), ∀ a, (k0_off426 v3252) a + S1x128.size a ≤ S8192x128.size a)
theorem k0_mult213_dvd : ∀ (i : grid0.Coords) (v3252 : BitVec 32) (k0_hw213 : k0_chk213 i v3252), ∀ (k0_h1 : k0_cond1 i = 1#1), 8 ∣ (k0_mult213 v3252).toNat := fun i v3252 k0_hw213 k0_h1 => k0_hw213.1 k0_h1
theorem k0_off425_inb : ∀ (i : grid0.Coords) (v3252 : BitVec 32) (k0_hw213 : k0_chk213 i v3252), ∀ (k0_h1 : k0_cond1 i = 1#1), ∀ a, (k0_off425 v3252) a + S8x128.size a ≤ S65536x128.size a := fun i v3252 k0_hw213 k0_h1 => k0_hw213.2.1 k0_h1
theorem k0_off426_inb : ∀ (i : grid0.Coords) (v3252 : BitVec 32) (k0_hw213 : k0_chk213 i v3252), ∀ (k0_h1 : k0_cond1 i = 1#1), ∀ a, (k0_off426 v3252) a + S1x128.size a ≤ S8192x128.size a := fun i v3252 k0_hw213 k0_h1 => k0_hw213.2.2 k0_h1

def k0_mult214 (v3267 : BitVec 32) : BitVec 32 :=
  let c3_i32_1754 : BitVec 32 := 3#32
  let v3268 : BitVec 32 := Scalar.shrsi v3267 c3_i32_1754
  let c8191_i32_1755 : BitVec 32 := 8191#32
  let v3269 : BitVec 32 := Scalar.andi v3268 c8191_i32_1755
  let c8_i32_1756 : BitVec 32 := 8#32
  let v3270 : BitVec 32 := Scalar.muli v3269 c8_i32_1756
  v3270

def k0_off427 (v3267 : BitVec 32) : Fin 2 → Nat :=
  let c3_i32_1754 : BitVec 32 := 3#32
  let v3268 : BitVec 32 := Scalar.shrsi v3267 c3_i32_1754
  let c8191_i32_1755 : BitVec 32 := 8191#32
  let v3269 : BitVec 32 := Scalar.andi v3268 c8191_i32_1755
  let c8_i32_1756 : BitVec 32 := 8#32
  let v3270 : BitVec 32 := Scalar.muli v3269 c8_i32_1756
  let v3271 : BitVec 32 := v3270
  let v3272 : Index := Scalar.indexCast v3271
  let c0_1757 : Index := 0#32
  ![v3272.toNat, 0]
def k0_off428 (v3267 : BitVec 32) : Fin 2 → Nat :=
  let c3_i32_1754 : BitVec 32 := 3#32
  let v3268 : BitVec 32 := Scalar.shrsi v3267 c3_i32_1754
  let c8191_i32_1755 : BitVec 32 := 8191#32
  let v3269 : BitVec 32 := Scalar.andi v3268 c8191_i32_1755
  let v3277 : Index := Scalar.indexCast v3269
  let c0_1759 : Index := 0#32
  ![v3277.toNat, 0]

def k0_chk214 (i : grid0.Coords) (v3267 : BitVec 32) : Prop :=
  (∀ (k0_h1 : k0_cond1 i = 1#1), 8 ∣ (k0_mult214 v3267).toNat) ∧
  (∀ (k0_h1 : k0_cond1 i = 1#1), ∀ a, (k0_off427 v3267) a + S8x128.size a ≤ S65536x128.size a) ∧
  (∀ (k0_h1 : k0_cond1 i = 1#1), ∀ a, (k0_off428 v3267) a + S1x128.size a ≤ S8192x128.size a)
theorem k0_mult214_dvd : ∀ (i : grid0.Coords) (v3267 : BitVec 32) (k0_hw214 : k0_chk214 i v3267), ∀ (k0_h1 : k0_cond1 i = 1#1), 8 ∣ (k0_mult214 v3267).toNat := fun i v3267 k0_hw214 k0_h1 => k0_hw214.1 k0_h1
theorem k0_off427_inb : ∀ (i : grid0.Coords) (v3267 : BitVec 32) (k0_hw214 : k0_chk214 i v3267), ∀ (k0_h1 : k0_cond1 i = 1#1), ∀ a, (k0_off427 v3267) a + S8x128.size a ≤ S65536x128.size a := fun i v3267 k0_hw214 k0_h1 => k0_hw214.2.1 k0_h1
theorem k0_off428_inb : ∀ (i : grid0.Coords) (v3267 : BitVec 32) (k0_hw214 : k0_chk214 i v3267), ∀ (k0_h1 : k0_cond1 i = 1#1), ∀ a, (k0_off428 v3267) a + S1x128.size a ≤ S8192x128.size a := fun i v3267 k0_hw214 k0_h1 => k0_hw214.2.2 k0_h1

def k0_mult215 (v3282 : BitVec 32) : BitVec 32 :=
  let c3_i32_1762 : BitVec 32 := 3#32
  let v3283 : BitVec 32 := Scalar.shrsi v3282 c3_i32_1762
  let c8191_i32_1763 : BitVec 32 := 8191#32
  let v3284 : BitVec 32 := Scalar.andi v3283 c8191_i32_1763
  let c8_i32_1764 : BitVec 32 := 8#32
  let v3285 : BitVec 32 := Scalar.muli v3284 c8_i32_1764
  v3285

def k0_off429 (v3282 : BitVec 32) : Fin 2 → Nat :=
  let c3_i32_1762 : BitVec 32 := 3#32
  let v3283 : BitVec 32 := Scalar.shrsi v3282 c3_i32_1762
  let c8191_i32_1763 : BitVec 32 := 8191#32
  let v3284 : BitVec 32 := Scalar.andi v3283 c8191_i32_1763
  let c8_i32_1764 : BitVec 32 := 8#32
  let v3285 : BitVec 32 := Scalar.muli v3284 c8_i32_1764
  let v3286 : BitVec 32 := v3285
  let v3287 : Index := Scalar.indexCast v3286
  let c0_1765 : Index := 0#32
  ![v3287.toNat, 0]
def k0_off430 (v3282 : BitVec 32) : Fin 2 → Nat :=
  let c3_i32_1762 : BitVec 32 := 3#32
  let v3283 : BitVec 32 := Scalar.shrsi v3282 c3_i32_1762
  let c8191_i32_1763 : BitVec 32 := 8191#32
  let v3284 : BitVec 32 := Scalar.andi v3283 c8191_i32_1763
  let v3292 : Index := Scalar.indexCast v3284
  let c0_1767 : Index := 0#32
  ![v3292.toNat, 0]

def k0_chk215 (i : grid0.Coords) (v3282 : BitVec 32) : Prop :=
  (∀ (k0_h1 : k0_cond1 i = 1#1), 8 ∣ (k0_mult215 v3282).toNat) ∧
  (∀ (k0_h1 : k0_cond1 i = 1#1), ∀ a, (k0_off429 v3282) a + S8x128.size a ≤ S65536x128.size a) ∧
  (∀ (k0_h1 : k0_cond1 i = 1#1), ∀ a, (k0_off430 v3282) a + S1x128.size a ≤ S8192x128.size a)
theorem k0_mult215_dvd : ∀ (i : grid0.Coords) (v3282 : BitVec 32) (k0_hw215 : k0_chk215 i v3282), ∀ (k0_h1 : k0_cond1 i = 1#1), 8 ∣ (k0_mult215 v3282).toNat := fun i v3282 k0_hw215 k0_h1 => k0_hw215.1 k0_h1
theorem k0_off429_inb : ∀ (i : grid0.Coords) (v3282 : BitVec 32) (k0_hw215 : k0_chk215 i v3282), ∀ (k0_h1 : k0_cond1 i = 1#1), ∀ a, (k0_off429 v3282) a + S8x128.size a ≤ S65536x128.size a := fun i v3282 k0_hw215 k0_h1 => k0_hw215.2.1 k0_h1
theorem k0_off430_inb : ∀ (i : grid0.Coords) (v3282 : BitVec 32) (k0_hw215 : k0_chk215 i v3282), ∀ (k0_h1 : k0_cond1 i = 1#1), ∀ a, (k0_off430 v3282) a + S1x128.size a ≤ S8192x128.size a := fun i v3282 k0_hw215 k0_h1 => k0_hw215.2.2 k0_h1

def k0_mult216 (v3297 : BitVec 32) : BitVec 32 :=
  let c3_i32_1770 : BitVec 32 := 3#32
  let v3298 : BitVec 32 := Scalar.shrsi v3297 c3_i32_1770
  let c8191_i32_1771 : BitVec 32 := 8191#32
  let v3299 : BitVec 32 := Scalar.andi v3298 c8191_i32_1771
  let c8_i32_1772 : BitVec 32 := 8#32
  let v3300 : BitVec 32 := Scalar.muli v3299 c8_i32_1772
  v3300

def k0_off431 (v3297 : BitVec 32) : Fin 2 → Nat :=
  let c3_i32_1770 : BitVec 32 := 3#32
  let v3298 : BitVec 32 := Scalar.shrsi v3297 c3_i32_1770
  let c8191_i32_1771 : BitVec 32 := 8191#32
  let v3299 : BitVec 32 := Scalar.andi v3298 c8191_i32_1771
  let c8_i32_1772 : BitVec 32 := 8#32
  let v3300 : BitVec 32 := Scalar.muli v3299 c8_i32_1772
  let v3301 : BitVec 32 := v3300
  let v3302 : Index := Scalar.indexCast v3301
  let c0_1773 : Index := 0#32
  ![v3302.toNat, 0]
def k0_off432 (v3297 : BitVec 32) : Fin 2 → Nat :=
  let c3_i32_1770 : BitVec 32 := 3#32
  let v3298 : BitVec 32 := Scalar.shrsi v3297 c3_i32_1770
  let c8191_i32_1771 : BitVec 32 := 8191#32
  let v3299 : BitVec 32 := Scalar.andi v3298 c8191_i32_1771
  let v3307 : Index := Scalar.indexCast v3299
  let c0_1775 : Index := 0#32
  ![v3307.toNat, 0]

def k0_chk216 (i : grid0.Coords) (v3297 : BitVec 32) : Prop :=
  (∀ (k0_h1 : k0_cond1 i = 1#1), 8 ∣ (k0_mult216 v3297).toNat) ∧
  (∀ (k0_h1 : k0_cond1 i = 1#1), ∀ a, (k0_off431 v3297) a + S8x128.size a ≤ S65536x128.size a) ∧
  (∀ (k0_h1 : k0_cond1 i = 1#1), ∀ a, (k0_off432 v3297) a + S1x128.size a ≤ S8192x128.size a)
theorem k0_mult216_dvd : ∀ (i : grid0.Coords) (v3297 : BitVec 32) (k0_hw216 : k0_chk216 i v3297), ∀ (k0_h1 : k0_cond1 i = 1#1), 8 ∣ (k0_mult216 v3297).toNat := fun i v3297 k0_hw216 k0_h1 => k0_hw216.1 k0_h1
theorem k0_off431_inb : ∀ (i : grid0.Coords) (v3297 : BitVec 32) (k0_hw216 : k0_chk216 i v3297), ∀ (k0_h1 : k0_cond1 i = 1#1), ∀ a, (k0_off431 v3297) a + S8x128.size a ≤ S65536x128.size a := fun i v3297 k0_hw216 k0_h1 => k0_hw216.2.1 k0_h1
theorem k0_off432_inb : ∀ (i : grid0.Coords) (v3297 : BitVec 32) (k0_hw216 : k0_chk216 i v3297), ∀ (k0_h1 : k0_cond1 i = 1#1), ∀ a, (k0_off432 v3297) a + S1x128.size a ≤ S8192x128.size a := fun i v3297 k0_hw216 k0_h1 => k0_hw216.2.2 k0_h1

def k0_mult217 (v3312 : BitVec 32) : BitVec 32 :=
  let c3_i32_1779 : BitVec 32 := 3#32
  let v3313 : BitVec 32 := Scalar.shrsi v3312 c3_i32_1779
  let c8191_i32_1780 : BitVec 32 := 8191#32
  let v3314 : BitVec 32 := Scalar.andi v3313 c8191_i32_1780
  let c8_i32_1781 : BitVec 32 := 8#32
  let v3315 : BitVec 32 := Scalar.muli v3314 c8_i32_1781
  v3315

def k0_off433 (v3312 : BitVec 32) : Fin 2 → Nat :=
  let c3_i32_1779 : BitVec 32 := 3#32
  let v3313 : BitVec 32 := Scalar.shrsi v3312 c3_i32_1779
  let c8191_i32_1780 : BitVec 32 := 8191#32
  let v3314 : BitVec 32 := Scalar.andi v3313 c8191_i32_1780
  let c8_i32_1781 : BitVec 32 := 8#32
  let v3315 : BitVec 32 := Scalar.muli v3314 c8_i32_1781
  let v3316 : BitVec 32 := v3315
  let v3317 : Index := Scalar.indexCast v3316
  let c0_1782 : Index := 0#32
  ![v3317.toNat, 0]
def k0_off434 (v3312 : BitVec 32) : Fin 2 → Nat :=
  let c3_i32_1779 : BitVec 32 := 3#32
  let v3313 : BitVec 32 := Scalar.shrsi v3312 c3_i32_1779
  let c8191_i32_1780 : BitVec 32 := 8191#32
  let v3314 : BitVec 32 := Scalar.andi v3313 c8191_i32_1780
  let v3322 : Index := Scalar.indexCast v3314
  let c0_1784 : Index := 0#32
  ![v3322.toNat, 0]

def k0_chk217 (i : grid0.Coords) (v3312 : BitVec 32) : Prop :=
  (∀ (k0_h1 : k0_cond1 i = 1#1), 8 ∣ (k0_mult217 v3312).toNat) ∧
  (∀ (k0_h1 : k0_cond1 i = 1#1), ∀ a, (k0_off433 v3312) a + S8x128.size a ≤ S65536x128.size a) ∧
  (∀ (k0_h1 : k0_cond1 i = 1#1), ∀ a, (k0_off434 v3312) a + S1x128.size a ≤ S8192x128.size a)
theorem k0_mult217_dvd : ∀ (i : grid0.Coords) (v3312 : BitVec 32) (k0_hw217 : k0_chk217 i v3312), ∀ (k0_h1 : k0_cond1 i = 1#1), 8 ∣ (k0_mult217 v3312).toNat := fun i v3312 k0_hw217 k0_h1 => k0_hw217.1 k0_h1
theorem k0_off433_inb : ∀ (i : grid0.Coords) (v3312 : BitVec 32) (k0_hw217 : k0_chk217 i v3312), ∀ (k0_h1 : k0_cond1 i = 1#1), ∀ a, (k0_off433 v3312) a + S8x128.size a ≤ S65536x128.size a := fun i v3312 k0_hw217 k0_h1 => k0_hw217.2.1 k0_h1
theorem k0_off434_inb : ∀ (i : grid0.Coords) (v3312 : BitVec 32) (k0_hw217 : k0_chk217 i v3312), ∀ (k0_h1 : k0_cond1 i = 1#1), ∀ a, (k0_off434 v3312) a + S1x128.size a ≤ S8192x128.size a := fun i v3312 k0_hw217 k0_h1 => k0_hw217.2.2 k0_h1

def k0_mult218 (v3327 : BitVec 32) : BitVec 32 :=
  let c3_i32_1787 : BitVec 32 := 3#32
  let v3328 : BitVec 32 := Scalar.shrsi v3327 c3_i32_1787
  let c8191_i32_1788 : BitVec 32 := 8191#32
  let v3329 : BitVec 32 := Scalar.andi v3328 c8191_i32_1788
  let c8_i32_1789 : BitVec 32 := 8#32
  let v3330 : BitVec 32 := Scalar.muli v3329 c8_i32_1789
  v3330

def k0_off435 (v3327 : BitVec 32) : Fin 2 → Nat :=
  let c3_i32_1787 : BitVec 32 := 3#32
  let v3328 : BitVec 32 := Scalar.shrsi v3327 c3_i32_1787
  let c8191_i32_1788 : BitVec 32 := 8191#32
  let v3329 : BitVec 32 := Scalar.andi v3328 c8191_i32_1788
  let c8_i32_1789 : BitVec 32 := 8#32
  let v3330 : BitVec 32 := Scalar.muli v3329 c8_i32_1789
  let v3331 : BitVec 32 := v3330
  let v3332 : Index := Scalar.indexCast v3331
  let c0_1790 : Index := 0#32
  ![v3332.toNat, 0]
def k0_off436 (v3327 : BitVec 32) : Fin 2 → Nat :=
  let c3_i32_1787 : BitVec 32 := 3#32
  let v3328 : BitVec 32 := Scalar.shrsi v3327 c3_i32_1787
  let c8191_i32_1788 : BitVec 32 := 8191#32
  let v3329 : BitVec 32 := Scalar.andi v3328 c8191_i32_1788
  let v3337 : Index := Scalar.indexCast v3329
  let c0_1792 : Index := 0#32
  ![v3337.toNat, 0]

def k0_chk218 (i : grid0.Coords) (v3327 : BitVec 32) : Prop :=
  (∀ (k0_h1 : k0_cond1 i = 1#1), 8 ∣ (k0_mult218 v3327).toNat) ∧
  (∀ (k0_h1 : k0_cond1 i = 1#1), ∀ a, (k0_off435 v3327) a + S8x128.size a ≤ S65536x128.size a) ∧
  (∀ (k0_h1 : k0_cond1 i = 1#1), ∀ a, (k0_off436 v3327) a + S1x128.size a ≤ S8192x128.size a)
theorem k0_mult218_dvd : ∀ (i : grid0.Coords) (v3327 : BitVec 32) (k0_hw218 : k0_chk218 i v3327), ∀ (k0_h1 : k0_cond1 i = 1#1), 8 ∣ (k0_mult218 v3327).toNat := fun i v3327 k0_hw218 k0_h1 => k0_hw218.1 k0_h1
theorem k0_off435_inb : ∀ (i : grid0.Coords) (v3327 : BitVec 32) (k0_hw218 : k0_chk218 i v3327), ∀ (k0_h1 : k0_cond1 i = 1#1), ∀ a, (k0_off435 v3327) a + S8x128.size a ≤ S65536x128.size a := fun i v3327 k0_hw218 k0_h1 => k0_hw218.2.1 k0_h1
theorem k0_off436_inb : ∀ (i : grid0.Coords) (v3327 : BitVec 32) (k0_hw218 : k0_chk218 i v3327), ∀ (k0_h1 : k0_cond1 i = 1#1), ∀ a, (k0_off436 v3327) a + S1x128.size a ≤ S8192x128.size a := fun i v3327 k0_hw218 k0_h1 => k0_hw218.2.2 k0_h1

def k0_mult219 (v3342 : BitVec 32) : BitVec 32 :=
  let c3_i32_1795 : BitVec 32 := 3#32
  let v3343 : BitVec 32 := Scalar.shrsi v3342 c3_i32_1795
  let c8191_i32_1796 : BitVec 32 := 8191#32
  let v3344 : BitVec 32 := Scalar.andi v3343 c8191_i32_1796
  let c8_i32_1797 : BitVec 32 := 8#32
  let v3345 : BitVec 32 := Scalar.muli v3344 c8_i32_1797
  v3345

def k0_off437 (v3342 : BitVec 32) : Fin 2 → Nat :=
  let c3_i32_1795 : BitVec 32 := 3#32
  let v3343 : BitVec 32 := Scalar.shrsi v3342 c3_i32_1795
  let c8191_i32_1796 : BitVec 32 := 8191#32
  let v3344 : BitVec 32 := Scalar.andi v3343 c8191_i32_1796
  let c8_i32_1797 : BitVec 32 := 8#32
  let v3345 : BitVec 32 := Scalar.muli v3344 c8_i32_1797
  let v3346 : BitVec 32 := v3345
  let v3347 : Index := Scalar.indexCast v3346
  let c0_1798 : Index := 0#32
  ![v3347.toNat, 0]
def k0_off438 (v3342 : BitVec 32) : Fin 2 → Nat :=
  let c3_i32_1795 : BitVec 32 := 3#32
  let v3343 : BitVec 32 := Scalar.shrsi v3342 c3_i32_1795
  let c8191_i32_1796 : BitVec 32 := 8191#32
  let v3344 : BitVec 32 := Scalar.andi v3343 c8191_i32_1796
  let v3352 : Index := Scalar.indexCast v3344
  let c0_1800 : Index := 0#32
  ![v3352.toNat, 0]

def k0_chk219 (i : grid0.Coords) (v3342 : BitVec 32) : Prop :=
  (∀ (k0_h1 : k0_cond1 i = 1#1), 8 ∣ (k0_mult219 v3342).toNat) ∧
  (∀ (k0_h1 : k0_cond1 i = 1#1), ∀ a, (k0_off437 v3342) a + S8x128.size a ≤ S65536x128.size a) ∧
  (∀ (k0_h1 : k0_cond1 i = 1#1), ∀ a, (k0_off438 v3342) a + S1x128.size a ≤ S8192x128.size a)
theorem k0_mult219_dvd : ∀ (i : grid0.Coords) (v3342 : BitVec 32) (k0_hw219 : k0_chk219 i v3342), ∀ (k0_h1 : k0_cond1 i = 1#1), 8 ∣ (k0_mult219 v3342).toNat := fun i v3342 k0_hw219 k0_h1 => k0_hw219.1 k0_h1
theorem k0_off437_inb : ∀ (i : grid0.Coords) (v3342 : BitVec 32) (k0_hw219 : k0_chk219 i v3342), ∀ (k0_h1 : k0_cond1 i = 1#1), ∀ a, (k0_off437 v3342) a + S8x128.size a ≤ S65536x128.size a := fun i v3342 k0_hw219 k0_h1 => k0_hw219.2.1 k0_h1
theorem k0_off438_inb : ∀ (i : grid0.Coords) (v3342 : BitVec 32) (k0_hw219 : k0_chk219 i v3342), ∀ (k0_h1 : k0_cond1 i = 1#1), ∀ a, (k0_off438 v3342) a + S1x128.size a ≤ S8192x128.size a := fun i v3342 k0_hw219 k0_h1 => k0_hw219.2.2 k0_h1

def k0_mult220 (v3357 : BitVec 32) : BitVec 32 :=
  let c3_i32_1803 : BitVec 32 := 3#32
  let v3358 : BitVec 32 := Scalar.shrsi v3357 c3_i32_1803
  let c8191_i32_1804 : BitVec 32 := 8191#32
  let v3359 : BitVec 32 := Scalar.andi v3358 c8191_i32_1804
  let c8_i32_1805 : BitVec 32 := 8#32
  let v3360 : BitVec 32 := Scalar.muli v3359 c8_i32_1805
  v3360

def k0_off439 (v3357 : BitVec 32) : Fin 2 → Nat :=
  let c3_i32_1803 : BitVec 32 := 3#32
  let v3358 : BitVec 32 := Scalar.shrsi v3357 c3_i32_1803
  let c8191_i32_1804 : BitVec 32 := 8191#32
  let v3359 : BitVec 32 := Scalar.andi v3358 c8191_i32_1804
  let c8_i32_1805 : BitVec 32 := 8#32
  let v3360 : BitVec 32 := Scalar.muli v3359 c8_i32_1805
  let v3361 : BitVec 32 := v3360
  let v3362 : Index := Scalar.indexCast v3361
  let c0_1806 : Index := 0#32
  ![v3362.toNat, 0]
def k0_off440 (v3357 : BitVec 32) : Fin 2 → Nat :=
  let c3_i32_1803 : BitVec 32 := 3#32
  let v3358 : BitVec 32 := Scalar.shrsi v3357 c3_i32_1803
  let c8191_i32_1804 : BitVec 32 := 8191#32
  let v3359 : BitVec 32 := Scalar.andi v3358 c8191_i32_1804
  let v3367 : Index := Scalar.indexCast v3359
  let c0_1808 : Index := 0#32
  ![v3367.toNat, 0]

def k0_chk220 (i : grid0.Coords) (v3357 : BitVec 32) : Prop :=
  (∀ (k0_h1 : k0_cond1 i = 1#1), 8 ∣ (k0_mult220 v3357).toNat) ∧
  (∀ (k0_h1 : k0_cond1 i = 1#1), ∀ a, (k0_off439 v3357) a + S8x128.size a ≤ S65536x128.size a) ∧
  (∀ (k0_h1 : k0_cond1 i = 1#1), ∀ a, (k0_off440 v3357) a + S1x128.size a ≤ S8192x128.size a)
theorem k0_mult220_dvd : ∀ (i : grid0.Coords) (v3357 : BitVec 32) (k0_hw220 : k0_chk220 i v3357), ∀ (k0_h1 : k0_cond1 i = 1#1), 8 ∣ (k0_mult220 v3357).toNat := fun i v3357 k0_hw220 k0_h1 => k0_hw220.1 k0_h1
theorem k0_off439_inb : ∀ (i : grid0.Coords) (v3357 : BitVec 32) (k0_hw220 : k0_chk220 i v3357), ∀ (k0_h1 : k0_cond1 i = 1#1), ∀ a, (k0_off439 v3357) a + S8x128.size a ≤ S65536x128.size a := fun i v3357 k0_hw220 k0_h1 => k0_hw220.2.1 k0_h1
theorem k0_off440_inb : ∀ (i : grid0.Coords) (v3357 : BitVec 32) (k0_hw220 : k0_chk220 i v3357), ∀ (k0_h1 : k0_cond1 i = 1#1), ∀ a, (k0_off440 v3357) a + S1x128.size a ≤ S8192x128.size a := fun i v3357 k0_hw220 k0_h1 => k0_hw220.2.2 k0_h1

def k0_mult221 (v3372 : BitVec 32) : BitVec 32 :=
  let c3_i32_1811 : BitVec 32 := 3#32
  let v3373 : BitVec 32 := Scalar.shrsi v3372 c3_i32_1811
  let c8191_i32_1812 : BitVec 32 := 8191#32
  let v3374 : BitVec 32 := Scalar.andi v3373 c8191_i32_1812
  let c8_i32_1813 : BitVec 32 := 8#32
  let v3375 : BitVec 32 := Scalar.muli v3374 c8_i32_1813
  v3375

def k0_off441 (v3372 : BitVec 32) : Fin 2 → Nat :=
  let c3_i32_1811 : BitVec 32 := 3#32
  let v3373 : BitVec 32 := Scalar.shrsi v3372 c3_i32_1811
  let c8191_i32_1812 : BitVec 32 := 8191#32
  let v3374 : BitVec 32 := Scalar.andi v3373 c8191_i32_1812
  let c8_i32_1813 : BitVec 32 := 8#32
  let v3375 : BitVec 32 := Scalar.muli v3374 c8_i32_1813
  let v3376 : BitVec 32 := v3375
  let v3377 : Index := Scalar.indexCast v3376
  let c0_1814 : Index := 0#32
  ![v3377.toNat, 0]
def k0_off442 (v3372 : BitVec 32) : Fin 2 → Nat :=
  let c3_i32_1811 : BitVec 32 := 3#32
  let v3373 : BitVec 32 := Scalar.shrsi v3372 c3_i32_1811
  let c8191_i32_1812 : BitVec 32 := 8191#32
  let v3374 : BitVec 32 := Scalar.andi v3373 c8191_i32_1812
  let v3382 : Index := Scalar.indexCast v3374
  let c0_1816 : Index := 0#32
  ![v3382.toNat, 0]

def k0_chk221 (i : grid0.Coords) (v3372 : BitVec 32) : Prop :=
  (∀ (k0_h1 : k0_cond1 i = 1#1), 8 ∣ (k0_mult221 v3372).toNat) ∧
  (∀ (k0_h1 : k0_cond1 i = 1#1), ∀ a, (k0_off441 v3372) a + S8x128.size a ≤ S65536x128.size a) ∧
  (∀ (k0_h1 : k0_cond1 i = 1#1), ∀ a, (k0_off442 v3372) a + S1x128.size a ≤ S8192x128.size a)
theorem k0_mult221_dvd : ∀ (i : grid0.Coords) (v3372 : BitVec 32) (k0_hw221 : k0_chk221 i v3372), ∀ (k0_h1 : k0_cond1 i = 1#1), 8 ∣ (k0_mult221 v3372).toNat := fun i v3372 k0_hw221 k0_h1 => k0_hw221.1 k0_h1
theorem k0_off441_inb : ∀ (i : grid0.Coords) (v3372 : BitVec 32) (k0_hw221 : k0_chk221 i v3372), ∀ (k0_h1 : k0_cond1 i = 1#1), ∀ a, (k0_off441 v3372) a + S8x128.size a ≤ S65536x128.size a := fun i v3372 k0_hw221 k0_h1 => k0_hw221.2.1 k0_h1
theorem k0_off442_inb : ∀ (i : grid0.Coords) (v3372 : BitVec 32) (k0_hw221 : k0_chk221 i v3372), ∀ (k0_h1 : k0_cond1 i = 1#1), ∀ a, (k0_off442 v3372) a + S1x128.size a ≤ S8192x128.size a := fun i v3372 k0_hw221 k0_h1 => k0_hw221.2.2 k0_h1

def k0_mult222 (v3387 : BitVec 32) : BitVec 32 :=
  let c3_i32_1819 : BitVec 32 := 3#32
  let v3388 : BitVec 32 := Scalar.shrsi v3387 c3_i32_1819
  let c8191_i32_1820 : BitVec 32 := 8191#32
  let v3389 : BitVec 32 := Scalar.andi v3388 c8191_i32_1820
  let c8_i32_1821 : BitVec 32 := 8#32
  let v3390 : BitVec 32 := Scalar.muli v3389 c8_i32_1821
  v3390

def k0_off443 (v3387 : BitVec 32) : Fin 2 → Nat :=
  let c3_i32_1819 : BitVec 32 := 3#32
  let v3388 : BitVec 32 := Scalar.shrsi v3387 c3_i32_1819
  let c8191_i32_1820 : BitVec 32 := 8191#32
  let v3389 : BitVec 32 := Scalar.andi v3388 c8191_i32_1820
  let c8_i32_1821 : BitVec 32 := 8#32
  let v3390 : BitVec 32 := Scalar.muli v3389 c8_i32_1821
  let v3391 : BitVec 32 := v3390
  let v3392 : Index := Scalar.indexCast v3391
  let c0_1822 : Index := 0#32
  ![v3392.toNat, 0]
def k0_off444 (v3387 : BitVec 32) : Fin 2 → Nat :=
  let c3_i32_1819 : BitVec 32 := 3#32
  let v3388 : BitVec 32 := Scalar.shrsi v3387 c3_i32_1819
  let c8191_i32_1820 : BitVec 32 := 8191#32
  let v3389 : BitVec 32 := Scalar.andi v3388 c8191_i32_1820
  let v3397 : Index := Scalar.indexCast v3389
  let c0_1824 : Index := 0#32
  ![v3397.toNat, 0]

def k0_chk222 (i : grid0.Coords) (v3387 : BitVec 32) : Prop :=
  (∀ (k0_h1 : k0_cond1 i = 1#1), 8 ∣ (k0_mult222 v3387).toNat) ∧
  (∀ (k0_h1 : k0_cond1 i = 1#1), ∀ a, (k0_off443 v3387) a + S8x128.size a ≤ S65536x128.size a) ∧
  (∀ (k0_h1 : k0_cond1 i = 1#1), ∀ a, (k0_off444 v3387) a + S1x128.size a ≤ S8192x128.size a)
theorem k0_mult222_dvd : ∀ (i : grid0.Coords) (v3387 : BitVec 32) (k0_hw222 : k0_chk222 i v3387), ∀ (k0_h1 : k0_cond1 i = 1#1), 8 ∣ (k0_mult222 v3387).toNat := fun i v3387 k0_hw222 k0_h1 => k0_hw222.1 k0_h1
theorem k0_off443_inb : ∀ (i : grid0.Coords) (v3387 : BitVec 32) (k0_hw222 : k0_chk222 i v3387), ∀ (k0_h1 : k0_cond1 i = 1#1), ∀ a, (k0_off443 v3387) a + S8x128.size a ≤ S65536x128.size a := fun i v3387 k0_hw222 k0_h1 => k0_hw222.2.1 k0_h1
theorem k0_off444_inb : ∀ (i : grid0.Coords) (v3387 : BitVec 32) (k0_hw222 : k0_chk222 i v3387), ∀ (k0_h1 : k0_cond1 i = 1#1), ∀ a, (k0_off444 v3387) a + S1x128.size a ≤ S8192x128.size a := fun i v3387 k0_hw222 k0_h1 => k0_hw222.2.2 k0_h1

def k0_mult223 (v3402 : BitVec 32) : BitVec 32 :=
  let c3_i32_1827 : BitVec 32 := 3#32
  let v3403 : BitVec 32 := Scalar.shrsi v3402 c3_i32_1827
  let c8191_i32_1828 : BitVec 32 := 8191#32
  let v3404 : BitVec 32 := Scalar.andi v3403 c8191_i32_1828
  let c8_i32_1829 : BitVec 32 := 8#32
  let v3405 : BitVec 32 := Scalar.muli v3404 c8_i32_1829
  v3405

def k0_off445 (v3402 : BitVec 32) : Fin 2 → Nat :=
  let c3_i32_1827 : BitVec 32 := 3#32
  let v3403 : BitVec 32 := Scalar.shrsi v3402 c3_i32_1827
  let c8191_i32_1828 : BitVec 32 := 8191#32
  let v3404 : BitVec 32 := Scalar.andi v3403 c8191_i32_1828
  let c8_i32_1829 : BitVec 32 := 8#32
  let v3405 : BitVec 32 := Scalar.muli v3404 c8_i32_1829
  let v3406 : BitVec 32 := v3405
  let v3407 : Index := Scalar.indexCast v3406
  let c0_1830 : Index := 0#32
  ![v3407.toNat, 0]
def k0_off446 (v3402 : BitVec 32) : Fin 2 → Nat :=
  let c3_i32_1827 : BitVec 32 := 3#32
  let v3403 : BitVec 32 := Scalar.shrsi v3402 c3_i32_1827
  let c8191_i32_1828 : BitVec 32 := 8191#32
  let v3404 : BitVec 32 := Scalar.andi v3403 c8191_i32_1828
  let v3412 : Index := Scalar.indexCast v3404
  let c0_1832 : Index := 0#32
  ![v3412.toNat, 0]

def k0_chk223 (i : grid0.Coords) (v3402 : BitVec 32) : Prop :=
  (∀ (k0_h1 : k0_cond1 i = 1#1), 8 ∣ (k0_mult223 v3402).toNat) ∧
  (∀ (k0_h1 : k0_cond1 i = 1#1), ∀ a, (k0_off445 v3402) a + S8x128.size a ≤ S65536x128.size a) ∧
  (∀ (k0_h1 : k0_cond1 i = 1#1), ∀ a, (k0_off446 v3402) a + S1x128.size a ≤ S8192x128.size a)
theorem k0_mult223_dvd : ∀ (i : grid0.Coords) (v3402 : BitVec 32) (k0_hw223 : k0_chk223 i v3402), ∀ (k0_h1 : k0_cond1 i = 1#1), 8 ∣ (k0_mult223 v3402).toNat := fun i v3402 k0_hw223 k0_h1 => k0_hw223.1 k0_h1
theorem k0_off445_inb : ∀ (i : grid0.Coords) (v3402 : BitVec 32) (k0_hw223 : k0_chk223 i v3402), ∀ (k0_h1 : k0_cond1 i = 1#1), ∀ a, (k0_off445 v3402) a + S8x128.size a ≤ S65536x128.size a := fun i v3402 k0_hw223 k0_h1 => k0_hw223.2.1 k0_h1
theorem k0_off446_inb : ∀ (i : grid0.Coords) (v3402 : BitVec 32) (k0_hw223 : k0_chk223 i v3402), ∀ (k0_h1 : k0_cond1 i = 1#1), ∀ a, (k0_off446 v3402) a + S1x128.size a ≤ S8192x128.size a := fun i v3402 k0_hw223 k0_h1 => k0_hw223.2.2 k0_h1

def k0_mult224 (v3417 : BitVec 32) : BitVec 32 :=
  let c3_i32_1835 : BitVec 32 := 3#32
  let v3418 : BitVec 32 := Scalar.shrsi v3417 c3_i32_1835
  let c8191_i32_1836 : BitVec 32 := 8191#32
  let v3419 : BitVec 32 := Scalar.andi v3418 c8191_i32_1836
  let c8_i32_1837 : BitVec 32 := 8#32
  let v3420 : BitVec 32 := Scalar.muli v3419 c8_i32_1837
  v3420

def k0_off447 (v3417 : BitVec 32) : Fin 2 → Nat :=
  let c3_i32_1835 : BitVec 32 := 3#32
  let v3418 : BitVec 32 := Scalar.shrsi v3417 c3_i32_1835
  let c8191_i32_1836 : BitVec 32 := 8191#32
  let v3419 : BitVec 32 := Scalar.andi v3418 c8191_i32_1836
  let c8_i32_1837 : BitVec 32 := 8#32
  let v3420 : BitVec 32 := Scalar.muli v3419 c8_i32_1837
  let v3421 : BitVec 32 := v3420
  let v3422 : Index := Scalar.indexCast v3421
  let c0_1838 : Index := 0#32
  ![v3422.toNat, 0]
def k0_off448 (v3417 : BitVec 32) : Fin 2 → Nat :=
  let c3_i32_1835 : BitVec 32 := 3#32
  let v3418 : BitVec 32 := Scalar.shrsi v3417 c3_i32_1835
  let c8191_i32_1836 : BitVec 32 := 8191#32
  let v3419 : BitVec 32 := Scalar.andi v3418 c8191_i32_1836
  let v3427 : Index := Scalar.indexCast v3419
  let c0_1840 : Index := 0#32
  ![v3427.toNat, 0]

def k0_chk224 (i : grid0.Coords) (v3417 : BitVec 32) : Prop :=
  (∀ (k0_h1 : k0_cond1 i = 1#1), 8 ∣ (k0_mult224 v3417).toNat) ∧
  (∀ (k0_h1 : k0_cond1 i = 1#1), ∀ a, (k0_off447 v3417) a + S8x128.size a ≤ S65536x128.size a) ∧
  (∀ (k0_h1 : k0_cond1 i = 1#1), ∀ a, (k0_off448 v3417) a + S1x128.size a ≤ S8192x128.size a)
theorem k0_mult224_dvd : ∀ (i : grid0.Coords) (v3417 : BitVec 32) (k0_hw224 : k0_chk224 i v3417), ∀ (k0_h1 : k0_cond1 i = 1#1), 8 ∣ (k0_mult224 v3417).toNat := fun i v3417 k0_hw224 k0_h1 => k0_hw224.1 k0_h1
theorem k0_off447_inb : ∀ (i : grid0.Coords) (v3417 : BitVec 32) (k0_hw224 : k0_chk224 i v3417), ∀ (k0_h1 : k0_cond1 i = 1#1), ∀ a, (k0_off447 v3417) a + S8x128.size a ≤ S65536x128.size a := fun i v3417 k0_hw224 k0_h1 => k0_hw224.2.1 k0_h1
theorem k0_off448_inb : ∀ (i : grid0.Coords) (v3417 : BitVec 32) (k0_hw224 : k0_chk224 i v3417), ∀ (k0_h1 : k0_cond1 i = 1#1), ∀ a, (k0_off448 v3417) a + S1x128.size a ≤ S8192x128.size a := fun i v3417 k0_hw224 k0_h1 => k0_hw224.2.2 k0_h1

def k0_mult225 (v3432 : BitVec 32) : BitVec 32 :=
  let c3_i32_1844 : BitVec 32 := 3#32
  let v3433 : BitVec 32 := Scalar.shrsi v3432 c3_i32_1844
  let c8191_i32_1845 : BitVec 32 := 8191#32
  let v3434 : BitVec 32 := Scalar.andi v3433 c8191_i32_1845
  let c8_i32_1846 : BitVec 32 := 8#32
  let v3435 : BitVec 32 := Scalar.muli v3434 c8_i32_1846
  v3435

def k0_off449 (v3432 : BitVec 32) : Fin 2 → Nat :=
  let c3_i32_1844 : BitVec 32 := 3#32
  let v3433 : BitVec 32 := Scalar.shrsi v3432 c3_i32_1844
  let c8191_i32_1845 : BitVec 32 := 8191#32
  let v3434 : BitVec 32 := Scalar.andi v3433 c8191_i32_1845
  let c8_i32_1846 : BitVec 32 := 8#32
  let v3435 : BitVec 32 := Scalar.muli v3434 c8_i32_1846
  let v3436 : BitVec 32 := v3435
  let v3437 : Index := Scalar.indexCast v3436
  let c0_1847 : Index := 0#32
  ![v3437.toNat, 0]
def k0_off450 (v3432 : BitVec 32) : Fin 2 → Nat :=
  let c3_i32_1844 : BitVec 32 := 3#32
  let v3433 : BitVec 32 := Scalar.shrsi v3432 c3_i32_1844
  let c8191_i32_1845 : BitVec 32 := 8191#32
  let v3434 : BitVec 32 := Scalar.andi v3433 c8191_i32_1845
  let v3442 : Index := Scalar.indexCast v3434
  let c0_1849 : Index := 0#32
  ![v3442.toNat, 0]

def k0_chk225 (i : grid0.Coords) (v3432 : BitVec 32) : Prop :=
  (∀ (k0_h1 : k0_cond1 i = 1#1), 8 ∣ (k0_mult225 v3432).toNat) ∧
  (∀ (k0_h1 : k0_cond1 i = 1#1), ∀ a, (k0_off449 v3432) a + S8x128.size a ≤ S65536x128.size a) ∧
  (∀ (k0_h1 : k0_cond1 i = 1#1), ∀ a, (k0_off450 v3432) a + S1x128.size a ≤ S8192x128.size a)
theorem k0_mult225_dvd : ∀ (i : grid0.Coords) (v3432 : BitVec 32) (k0_hw225 : k0_chk225 i v3432), ∀ (k0_h1 : k0_cond1 i = 1#1), 8 ∣ (k0_mult225 v3432).toNat := fun i v3432 k0_hw225 k0_h1 => k0_hw225.1 k0_h1
theorem k0_off449_inb : ∀ (i : grid0.Coords) (v3432 : BitVec 32) (k0_hw225 : k0_chk225 i v3432), ∀ (k0_h1 : k0_cond1 i = 1#1), ∀ a, (k0_off449 v3432) a + S8x128.size a ≤ S65536x128.size a := fun i v3432 k0_hw225 k0_h1 => k0_hw225.2.1 k0_h1
theorem k0_off450_inb : ∀ (i : grid0.Coords) (v3432 : BitVec 32) (k0_hw225 : k0_chk225 i v3432), ∀ (k0_h1 : k0_cond1 i = 1#1), ∀ a, (k0_off450 v3432) a + S1x128.size a ≤ S8192x128.size a := fun i v3432 k0_hw225 k0_h1 => k0_hw225.2.2 k0_h1

def k0_mult226 (v3447 : BitVec 32) : BitVec 32 :=
  let c3_i32_1852 : BitVec 32 := 3#32
  let v3448 : BitVec 32 := Scalar.shrsi v3447 c3_i32_1852
  let c8191_i32_1853 : BitVec 32 := 8191#32
  let v3449 : BitVec 32 := Scalar.andi v3448 c8191_i32_1853
  let c8_i32_1854 : BitVec 32 := 8#32
  let v3450 : BitVec 32 := Scalar.muli v3449 c8_i32_1854
  v3450

def k0_off451 (v3447 : BitVec 32) : Fin 2 → Nat :=
  let c3_i32_1852 : BitVec 32 := 3#32
  let v3448 : BitVec 32 := Scalar.shrsi v3447 c3_i32_1852
  let c8191_i32_1853 : BitVec 32 := 8191#32
  let v3449 : BitVec 32 := Scalar.andi v3448 c8191_i32_1853
  let c8_i32_1854 : BitVec 32 := 8#32
  let v3450 : BitVec 32 := Scalar.muli v3449 c8_i32_1854
  let v3451 : BitVec 32 := v3450
  let v3452 : Index := Scalar.indexCast v3451
  let c0_1855 : Index := 0#32
  ![v3452.toNat, 0]
def k0_off452 (v3447 : BitVec 32) : Fin 2 → Nat :=
  let c3_i32_1852 : BitVec 32 := 3#32
  let v3448 : BitVec 32 := Scalar.shrsi v3447 c3_i32_1852
  let c8191_i32_1853 : BitVec 32 := 8191#32
  let v3449 : BitVec 32 := Scalar.andi v3448 c8191_i32_1853
  let v3457 : Index := Scalar.indexCast v3449
  let c0_1857 : Index := 0#32
  ![v3457.toNat, 0]

def k0_chk226 (i : grid0.Coords) (v3447 : BitVec 32) : Prop :=
  (∀ (k0_h1 : k0_cond1 i = 1#1), 8 ∣ (k0_mult226 v3447).toNat) ∧
  (∀ (k0_h1 : k0_cond1 i = 1#1), ∀ a, (k0_off451 v3447) a + S8x128.size a ≤ S65536x128.size a) ∧
  (∀ (k0_h1 : k0_cond1 i = 1#1), ∀ a, (k0_off452 v3447) a + S1x128.size a ≤ S8192x128.size a)
theorem k0_mult226_dvd : ∀ (i : grid0.Coords) (v3447 : BitVec 32) (k0_hw226 : k0_chk226 i v3447), ∀ (k0_h1 : k0_cond1 i = 1#1), 8 ∣ (k0_mult226 v3447).toNat := fun i v3447 k0_hw226 k0_h1 => k0_hw226.1 k0_h1
theorem k0_off451_inb : ∀ (i : grid0.Coords) (v3447 : BitVec 32) (k0_hw226 : k0_chk226 i v3447), ∀ (k0_h1 : k0_cond1 i = 1#1), ∀ a, (k0_off451 v3447) a + S8x128.size a ≤ S65536x128.size a := fun i v3447 k0_hw226 k0_h1 => k0_hw226.2.1 k0_h1
theorem k0_off452_inb : ∀ (i : grid0.Coords) (v3447 : BitVec 32) (k0_hw226 : k0_chk226 i v3447), ∀ (k0_h1 : k0_cond1 i = 1#1), ∀ a, (k0_off452 v3447) a + S1x128.size a ≤ S8192x128.size a := fun i v3447 k0_hw226 k0_h1 => k0_hw226.2.2 k0_h1

def k0_mult227 (v3462 : BitVec 32) : BitVec 32 :=
  let c3_i32_1860 : BitVec 32 := 3#32
  let v3463 : BitVec 32 := Scalar.shrsi v3462 c3_i32_1860
  let c8191_i32_1861 : BitVec 32 := 8191#32
  let v3464 : BitVec 32 := Scalar.andi v3463 c8191_i32_1861
  let c8_i32_1862 : BitVec 32 := 8#32
  let v3465 : BitVec 32 := Scalar.muli v3464 c8_i32_1862
  v3465

def k0_off453 (v3462 : BitVec 32) : Fin 2 → Nat :=
  let c3_i32_1860 : BitVec 32 := 3#32
  let v3463 : BitVec 32 := Scalar.shrsi v3462 c3_i32_1860
  let c8191_i32_1861 : BitVec 32 := 8191#32
  let v3464 : BitVec 32 := Scalar.andi v3463 c8191_i32_1861
  let c8_i32_1862 : BitVec 32 := 8#32
  let v3465 : BitVec 32 := Scalar.muli v3464 c8_i32_1862
  let v3466 : BitVec 32 := v3465
  let v3467 : Index := Scalar.indexCast v3466
  let c0_1863 : Index := 0#32
  ![v3467.toNat, 0]
def k0_off454 (v3462 : BitVec 32) : Fin 2 → Nat :=
  let c3_i32_1860 : BitVec 32 := 3#32
  let v3463 : BitVec 32 := Scalar.shrsi v3462 c3_i32_1860
  let c8191_i32_1861 : BitVec 32 := 8191#32
  let v3464 : BitVec 32 := Scalar.andi v3463 c8191_i32_1861
  let v3472 : Index := Scalar.indexCast v3464
  let c0_1865 : Index := 0#32
  ![v3472.toNat, 0]

def k0_chk227 (i : grid0.Coords) (v3462 : BitVec 32) : Prop :=
  (∀ (k0_h1 : k0_cond1 i = 1#1), 8 ∣ (k0_mult227 v3462).toNat) ∧
  (∀ (k0_h1 : k0_cond1 i = 1#1), ∀ a, (k0_off453 v3462) a + S8x128.size a ≤ S65536x128.size a) ∧
  (∀ (k0_h1 : k0_cond1 i = 1#1), ∀ a, (k0_off454 v3462) a + S1x128.size a ≤ S8192x128.size a)
theorem k0_mult227_dvd : ∀ (i : grid0.Coords) (v3462 : BitVec 32) (k0_hw227 : k0_chk227 i v3462), ∀ (k0_h1 : k0_cond1 i = 1#1), 8 ∣ (k0_mult227 v3462).toNat := fun i v3462 k0_hw227 k0_h1 => k0_hw227.1 k0_h1
theorem k0_off453_inb : ∀ (i : grid0.Coords) (v3462 : BitVec 32) (k0_hw227 : k0_chk227 i v3462), ∀ (k0_h1 : k0_cond1 i = 1#1), ∀ a, (k0_off453 v3462) a + S8x128.size a ≤ S65536x128.size a := fun i v3462 k0_hw227 k0_h1 => k0_hw227.2.1 k0_h1
theorem k0_off454_inb : ∀ (i : grid0.Coords) (v3462 : BitVec 32) (k0_hw227 : k0_chk227 i v3462), ∀ (k0_h1 : k0_cond1 i = 1#1), ∀ a, (k0_off454 v3462) a + S1x128.size a ≤ S8192x128.size a := fun i v3462 k0_hw227 k0_h1 => k0_hw227.2.2 k0_h1

def k0_mult228 (v3477 : BitVec 32) : BitVec 32 :=
  let c3_i32_1868 : BitVec 32 := 3#32
  let v3478 : BitVec 32 := Scalar.shrsi v3477 c3_i32_1868
  let c8191_i32_1869 : BitVec 32 := 8191#32
  let v3479 : BitVec 32 := Scalar.andi v3478 c8191_i32_1869
  let c8_i32_1870 : BitVec 32 := 8#32
  let v3480 : BitVec 32 := Scalar.muli v3479 c8_i32_1870
  v3480

def k0_off455 (v3477 : BitVec 32) : Fin 2 → Nat :=
  let c3_i32_1868 : BitVec 32 := 3#32
  let v3478 : BitVec 32 := Scalar.shrsi v3477 c3_i32_1868
  let c8191_i32_1869 : BitVec 32 := 8191#32
  let v3479 : BitVec 32 := Scalar.andi v3478 c8191_i32_1869
  let c8_i32_1870 : BitVec 32 := 8#32
  let v3480 : BitVec 32 := Scalar.muli v3479 c8_i32_1870
  let v3481 : BitVec 32 := v3480
  let v3482 : Index := Scalar.indexCast v3481
  let c0_1871 : Index := 0#32
  ![v3482.toNat, 0]
def k0_off456 (v3477 : BitVec 32) : Fin 2 → Nat :=
  let c3_i32_1868 : BitVec 32 := 3#32
  let v3478 : BitVec 32 := Scalar.shrsi v3477 c3_i32_1868
  let c8191_i32_1869 : BitVec 32 := 8191#32
  let v3479 : BitVec 32 := Scalar.andi v3478 c8191_i32_1869
  let v3487 : Index := Scalar.indexCast v3479
  let c0_1873 : Index := 0#32
  ![v3487.toNat, 0]

def k0_chk228 (i : grid0.Coords) (v3477 : BitVec 32) : Prop :=
  (∀ (k0_h1 : k0_cond1 i = 1#1), 8 ∣ (k0_mult228 v3477).toNat) ∧
  (∀ (k0_h1 : k0_cond1 i = 1#1), ∀ a, (k0_off455 v3477) a + S8x128.size a ≤ S65536x128.size a) ∧
  (∀ (k0_h1 : k0_cond1 i = 1#1), ∀ a, (k0_off456 v3477) a + S1x128.size a ≤ S8192x128.size a)
theorem k0_mult228_dvd : ∀ (i : grid0.Coords) (v3477 : BitVec 32) (k0_hw228 : k0_chk228 i v3477), ∀ (k0_h1 : k0_cond1 i = 1#1), 8 ∣ (k0_mult228 v3477).toNat := fun i v3477 k0_hw228 k0_h1 => k0_hw228.1 k0_h1
theorem k0_off455_inb : ∀ (i : grid0.Coords) (v3477 : BitVec 32) (k0_hw228 : k0_chk228 i v3477), ∀ (k0_h1 : k0_cond1 i = 1#1), ∀ a, (k0_off455 v3477) a + S8x128.size a ≤ S65536x128.size a := fun i v3477 k0_hw228 k0_h1 => k0_hw228.2.1 k0_h1
theorem k0_off456_inb : ∀ (i : grid0.Coords) (v3477 : BitVec 32) (k0_hw228 : k0_chk228 i v3477), ∀ (k0_h1 : k0_cond1 i = 1#1), ∀ a, (k0_off456 v3477) a + S1x128.size a ≤ S8192x128.size a := fun i v3477 k0_hw228 k0_h1 => k0_hw228.2.2 k0_h1

def k0_mult229 (v3492 : BitVec 32) : BitVec 32 :=
  let c3_i32_1876 : BitVec 32 := 3#32
  let v3493 : BitVec 32 := Scalar.shrsi v3492 c3_i32_1876
  let c8191_i32_1877 : BitVec 32 := 8191#32
  let v3494 : BitVec 32 := Scalar.andi v3493 c8191_i32_1877
  let c8_i32_1878 : BitVec 32 := 8#32
  let v3495 : BitVec 32 := Scalar.muli v3494 c8_i32_1878
  v3495

def k0_off457 (v3492 : BitVec 32) : Fin 2 → Nat :=
  let c3_i32_1876 : BitVec 32 := 3#32
  let v3493 : BitVec 32 := Scalar.shrsi v3492 c3_i32_1876
  let c8191_i32_1877 : BitVec 32 := 8191#32
  let v3494 : BitVec 32 := Scalar.andi v3493 c8191_i32_1877
  let c8_i32_1878 : BitVec 32 := 8#32
  let v3495 : BitVec 32 := Scalar.muli v3494 c8_i32_1878
  let v3496 : BitVec 32 := v3495
  let v3497 : Index := Scalar.indexCast v3496
  let c0_1879 : Index := 0#32
  ![v3497.toNat, 0]
def k0_off458 (v3492 : BitVec 32) : Fin 2 → Nat :=
  let c3_i32_1876 : BitVec 32 := 3#32
  let v3493 : BitVec 32 := Scalar.shrsi v3492 c3_i32_1876
  let c8191_i32_1877 : BitVec 32 := 8191#32
  let v3494 : BitVec 32 := Scalar.andi v3493 c8191_i32_1877
  let v3502 : Index := Scalar.indexCast v3494
  let c0_1881 : Index := 0#32
  ![v3502.toNat, 0]

def k0_chk229 (i : grid0.Coords) (v3492 : BitVec 32) : Prop :=
  (∀ (k0_h1 : k0_cond1 i = 1#1), 8 ∣ (k0_mult229 v3492).toNat) ∧
  (∀ (k0_h1 : k0_cond1 i = 1#1), ∀ a, (k0_off457 v3492) a + S8x128.size a ≤ S65536x128.size a) ∧
  (∀ (k0_h1 : k0_cond1 i = 1#1), ∀ a, (k0_off458 v3492) a + S1x128.size a ≤ S8192x128.size a)
theorem k0_mult229_dvd : ∀ (i : grid0.Coords) (v3492 : BitVec 32) (k0_hw229 : k0_chk229 i v3492), ∀ (k0_h1 : k0_cond1 i = 1#1), 8 ∣ (k0_mult229 v3492).toNat := fun i v3492 k0_hw229 k0_h1 => k0_hw229.1 k0_h1
theorem k0_off457_inb : ∀ (i : grid0.Coords) (v3492 : BitVec 32) (k0_hw229 : k0_chk229 i v3492), ∀ (k0_h1 : k0_cond1 i = 1#1), ∀ a, (k0_off457 v3492) a + S8x128.size a ≤ S65536x128.size a := fun i v3492 k0_hw229 k0_h1 => k0_hw229.2.1 k0_h1
theorem k0_off458_inb : ∀ (i : grid0.Coords) (v3492 : BitVec 32) (k0_hw229 : k0_chk229 i v3492), ∀ (k0_h1 : k0_cond1 i = 1#1), ∀ a, (k0_off458 v3492) a + S1x128.size a ≤ S8192x128.size a := fun i v3492 k0_hw229 k0_h1 => k0_hw229.2.2 k0_h1

def k0_mult230 (v3507 : BitVec 32) : BitVec 32 :=
  let c3_i32_1884 : BitVec 32 := 3#32
  let v3508 : BitVec 32 := Scalar.shrsi v3507 c3_i32_1884
  let c8191_i32_1885 : BitVec 32 := 8191#32
  let v3509 : BitVec 32 := Scalar.andi v3508 c8191_i32_1885
  let c8_i32_1886 : BitVec 32 := 8#32
  let v3510 : BitVec 32 := Scalar.muli v3509 c8_i32_1886
  v3510

def k0_off459 (v3507 : BitVec 32) : Fin 2 → Nat :=
  let c3_i32_1884 : BitVec 32 := 3#32
  let v3508 : BitVec 32 := Scalar.shrsi v3507 c3_i32_1884
  let c8191_i32_1885 : BitVec 32 := 8191#32
  let v3509 : BitVec 32 := Scalar.andi v3508 c8191_i32_1885
  let c8_i32_1886 : BitVec 32 := 8#32
  let v3510 : BitVec 32 := Scalar.muli v3509 c8_i32_1886
  let v3511 : BitVec 32 := v3510
  let v3512 : Index := Scalar.indexCast v3511
  let c0_1887 : Index := 0#32
  ![v3512.toNat, 0]
def k0_off460 (v3507 : BitVec 32) : Fin 2 → Nat :=
  let c3_i32_1884 : BitVec 32 := 3#32
  let v3508 : BitVec 32 := Scalar.shrsi v3507 c3_i32_1884
  let c8191_i32_1885 : BitVec 32 := 8191#32
  let v3509 : BitVec 32 := Scalar.andi v3508 c8191_i32_1885
  let v3517 : Index := Scalar.indexCast v3509
  let c0_1889 : Index := 0#32
  ![v3517.toNat, 0]

def k0_chk230 (i : grid0.Coords) (v3507 : BitVec 32) : Prop :=
  (∀ (k0_h1 : k0_cond1 i = 1#1), 8 ∣ (k0_mult230 v3507).toNat) ∧
  (∀ (k0_h1 : k0_cond1 i = 1#1), ∀ a, (k0_off459 v3507) a + S8x128.size a ≤ S65536x128.size a) ∧
  (∀ (k0_h1 : k0_cond1 i = 1#1), ∀ a, (k0_off460 v3507) a + S1x128.size a ≤ S8192x128.size a)
theorem k0_mult230_dvd : ∀ (i : grid0.Coords) (v3507 : BitVec 32) (k0_hw230 : k0_chk230 i v3507), ∀ (k0_h1 : k0_cond1 i = 1#1), 8 ∣ (k0_mult230 v3507).toNat := fun i v3507 k0_hw230 k0_h1 => k0_hw230.1 k0_h1
theorem k0_off459_inb : ∀ (i : grid0.Coords) (v3507 : BitVec 32) (k0_hw230 : k0_chk230 i v3507), ∀ (k0_h1 : k0_cond1 i = 1#1), ∀ a, (k0_off459 v3507) a + S8x128.size a ≤ S65536x128.size a := fun i v3507 k0_hw230 k0_h1 => k0_hw230.2.1 k0_h1
theorem k0_off460_inb : ∀ (i : grid0.Coords) (v3507 : BitVec 32) (k0_hw230 : k0_chk230 i v3507), ∀ (k0_h1 : k0_cond1 i = 1#1), ∀ a, (k0_off460 v3507) a + S1x128.size a ≤ S8192x128.size a := fun i v3507 k0_hw230 k0_h1 => k0_hw230.2.2 k0_h1

def k0_mult231 (v3522 : BitVec 32) : BitVec 32 :=
  let c3_i32_1892 : BitVec 32 := 3#32
  let v3523 : BitVec 32 := Scalar.shrsi v3522 c3_i32_1892
  let c8191_i32_1893 : BitVec 32 := 8191#32
  let v3524 : BitVec 32 := Scalar.andi v3523 c8191_i32_1893
  let c8_i32_1894 : BitVec 32 := 8#32
  let v3525 : BitVec 32 := Scalar.muli v3524 c8_i32_1894
  v3525

def k0_off461 (v3522 : BitVec 32) : Fin 2 → Nat :=
  let c3_i32_1892 : BitVec 32 := 3#32
  let v3523 : BitVec 32 := Scalar.shrsi v3522 c3_i32_1892
  let c8191_i32_1893 : BitVec 32 := 8191#32
  let v3524 : BitVec 32 := Scalar.andi v3523 c8191_i32_1893
  let c8_i32_1894 : BitVec 32 := 8#32
  let v3525 : BitVec 32 := Scalar.muli v3524 c8_i32_1894
  let v3526 : BitVec 32 := v3525
  let v3527 : Index := Scalar.indexCast v3526
  let c0_1895 : Index := 0#32
  ![v3527.toNat, 0]
def k0_off462 (v3522 : BitVec 32) : Fin 2 → Nat :=
  let c3_i32_1892 : BitVec 32 := 3#32
  let v3523 : BitVec 32 := Scalar.shrsi v3522 c3_i32_1892
  let c8191_i32_1893 : BitVec 32 := 8191#32
  let v3524 : BitVec 32 := Scalar.andi v3523 c8191_i32_1893
  let v3532 : Index := Scalar.indexCast v3524
  let c0_1897 : Index := 0#32
  ![v3532.toNat, 0]

def k0_chk231 (i : grid0.Coords) (v3522 : BitVec 32) : Prop :=
  (∀ (k0_h1 : k0_cond1 i = 1#1), 8 ∣ (k0_mult231 v3522).toNat) ∧
  (∀ (k0_h1 : k0_cond1 i = 1#1), ∀ a, (k0_off461 v3522) a + S8x128.size a ≤ S65536x128.size a) ∧
  (∀ (k0_h1 : k0_cond1 i = 1#1), ∀ a, (k0_off462 v3522) a + S1x128.size a ≤ S8192x128.size a)
theorem k0_mult231_dvd : ∀ (i : grid0.Coords) (v3522 : BitVec 32) (k0_hw231 : k0_chk231 i v3522), ∀ (k0_h1 : k0_cond1 i = 1#1), 8 ∣ (k0_mult231 v3522).toNat := fun i v3522 k0_hw231 k0_h1 => k0_hw231.1 k0_h1
theorem k0_off461_inb : ∀ (i : grid0.Coords) (v3522 : BitVec 32) (k0_hw231 : k0_chk231 i v3522), ∀ (k0_h1 : k0_cond1 i = 1#1), ∀ a, (k0_off461 v3522) a + S8x128.size a ≤ S65536x128.size a := fun i v3522 k0_hw231 k0_h1 => k0_hw231.2.1 k0_h1
theorem k0_off462_inb : ∀ (i : grid0.Coords) (v3522 : BitVec 32) (k0_hw231 : k0_chk231 i v3522), ∀ (k0_h1 : k0_cond1 i = 1#1), ∀ a, (k0_off462 v3522) a + S1x128.size a ≤ S8192x128.size a := fun i v3522 k0_hw231 k0_h1 => k0_hw231.2.2 k0_h1

def k0_mult232 (v3537 : BitVec 32) : BitVec 32 :=
  let c3_i32_1900 : BitVec 32 := 3#32
  let v3538 : BitVec 32 := Scalar.shrsi v3537 c3_i32_1900
  let c8191_i32_1901 : BitVec 32 := 8191#32
  let v3539 : BitVec 32 := Scalar.andi v3538 c8191_i32_1901
  let c8_i32_1902 : BitVec 32 := 8#32
  let v3540 : BitVec 32 := Scalar.muli v3539 c8_i32_1902
  v3540

def k0_off463 (v3537 : BitVec 32) : Fin 2 → Nat :=
  let c3_i32_1900 : BitVec 32 := 3#32
  let v3538 : BitVec 32 := Scalar.shrsi v3537 c3_i32_1900
  let c8191_i32_1901 : BitVec 32 := 8191#32
  let v3539 : BitVec 32 := Scalar.andi v3538 c8191_i32_1901
  let c8_i32_1902 : BitVec 32 := 8#32
  let v3540 : BitVec 32 := Scalar.muli v3539 c8_i32_1902
  let v3541 : BitVec 32 := v3540
  let v3542 : Index := Scalar.indexCast v3541
  let c0_1903 : Index := 0#32
  ![v3542.toNat, 0]
def k0_off464 (v3537 : BitVec 32) : Fin 2 → Nat :=
  let c3_i32_1900 : BitVec 32 := 3#32
  let v3538 : BitVec 32 := Scalar.shrsi v3537 c3_i32_1900
  let c8191_i32_1901 : BitVec 32 := 8191#32
  let v3539 : BitVec 32 := Scalar.andi v3538 c8191_i32_1901
  let v3547 : Index := Scalar.indexCast v3539
  let c0_1905 : Index := 0#32
  ![v3547.toNat, 0]

def k0_chk232 (i : grid0.Coords) (v3537 : BitVec 32) : Prop :=
  (∀ (k0_h1 : k0_cond1 i = 1#1), 8 ∣ (k0_mult232 v3537).toNat) ∧
  (∀ (k0_h1 : k0_cond1 i = 1#1), ∀ a, (k0_off463 v3537) a + S8x128.size a ≤ S65536x128.size a) ∧
  (∀ (k0_h1 : k0_cond1 i = 1#1), ∀ a, (k0_off464 v3537) a + S1x128.size a ≤ S8192x128.size a)
theorem k0_mult232_dvd : ∀ (i : grid0.Coords) (v3537 : BitVec 32) (k0_hw232 : k0_chk232 i v3537), ∀ (k0_h1 : k0_cond1 i = 1#1), 8 ∣ (k0_mult232 v3537).toNat := fun i v3537 k0_hw232 k0_h1 => k0_hw232.1 k0_h1
theorem k0_off463_inb : ∀ (i : grid0.Coords) (v3537 : BitVec 32) (k0_hw232 : k0_chk232 i v3537), ∀ (k0_h1 : k0_cond1 i = 1#1), ∀ a, (k0_off463 v3537) a + S8x128.size a ≤ S65536x128.size a := fun i v3537 k0_hw232 k0_h1 => k0_hw232.2.1 k0_h1
theorem k0_off464_inb : ∀ (i : grid0.Coords) (v3537 : BitVec 32) (k0_hw232 : k0_chk232 i v3537), ∀ (k0_h1 : k0_cond1 i = 1#1), ∀ a, (k0_off464 v3537) a + S1x128.size a ≤ S8192x128.size a := fun i v3537 k0_hw232 k0_h1 => k0_hw232.2.2 k0_h1

def k0_mult233 (v3552 : BitVec 32) : BitVec 32 :=
  let c3_i32_1909 : BitVec 32 := 3#32
  let v3553 : BitVec 32 := Scalar.shrsi v3552 c3_i32_1909
  let c8191_i32_1910 : BitVec 32 := 8191#32
  let v3554 : BitVec 32 := Scalar.andi v3553 c8191_i32_1910
  let c8_i32_1911 : BitVec 32 := 8#32
  let v3555 : BitVec 32 := Scalar.muli v3554 c8_i32_1911
  v3555

def k0_off465 (v3552 : BitVec 32) : Fin 2 → Nat :=
  let c3_i32_1909 : BitVec 32 := 3#32
  let v3553 : BitVec 32 := Scalar.shrsi v3552 c3_i32_1909
  let c8191_i32_1910 : BitVec 32 := 8191#32
  let v3554 : BitVec 32 := Scalar.andi v3553 c8191_i32_1910
  let c8_i32_1911 : BitVec 32 := 8#32
  let v3555 : BitVec 32 := Scalar.muli v3554 c8_i32_1911
  let v3556 : BitVec 32 := v3555
  let v3557 : Index := Scalar.indexCast v3556
  let c0_1912 : Index := 0#32
  ![v3557.toNat, 0]
def k0_off466 (v3552 : BitVec 32) : Fin 2 → Nat :=
  let c3_i32_1909 : BitVec 32 := 3#32
  let v3553 : BitVec 32 := Scalar.shrsi v3552 c3_i32_1909
  let c8191_i32_1910 : BitVec 32 := 8191#32
  let v3554 : BitVec 32 := Scalar.andi v3553 c8191_i32_1910
  let v3562 : Index := Scalar.indexCast v3554
  let c0_1914 : Index := 0#32
  ![v3562.toNat, 0]

def k0_chk233 (i : grid0.Coords) (v3552 : BitVec 32) : Prop :=
  (∀ (k0_h1 : k0_cond1 i = 1#1), 8 ∣ (k0_mult233 v3552).toNat) ∧
  (∀ (k0_h1 : k0_cond1 i = 1#1), ∀ a, (k0_off465 v3552) a + S8x128.size a ≤ S65536x128.size a) ∧
  (∀ (k0_h1 : k0_cond1 i = 1#1), ∀ a, (k0_off466 v3552) a + S1x128.size a ≤ S8192x128.size a)
theorem k0_mult233_dvd : ∀ (i : grid0.Coords) (v3552 : BitVec 32) (k0_hw233 : k0_chk233 i v3552), ∀ (k0_h1 : k0_cond1 i = 1#1), 8 ∣ (k0_mult233 v3552).toNat := fun i v3552 k0_hw233 k0_h1 => k0_hw233.1 k0_h1
theorem k0_off465_inb : ∀ (i : grid0.Coords) (v3552 : BitVec 32) (k0_hw233 : k0_chk233 i v3552), ∀ (k0_h1 : k0_cond1 i = 1#1), ∀ a, (k0_off465 v3552) a + S8x128.size a ≤ S65536x128.size a := fun i v3552 k0_hw233 k0_h1 => k0_hw233.2.1 k0_h1
theorem k0_off466_inb : ∀ (i : grid0.Coords) (v3552 : BitVec 32) (k0_hw233 : k0_chk233 i v3552), ∀ (k0_h1 : k0_cond1 i = 1#1), ∀ a, (k0_off466 v3552) a + S1x128.size a ≤ S8192x128.size a := fun i v3552 k0_hw233 k0_h1 => k0_hw233.2.2 k0_h1

def k0_mult234 (v3567 : BitVec 32) : BitVec 32 :=
  let c3_i32_1917 : BitVec 32 := 3#32
  let v3568 : BitVec 32 := Scalar.shrsi v3567 c3_i32_1917
  let c8191_i32_1918 : BitVec 32 := 8191#32
  let v3569 : BitVec 32 := Scalar.andi v3568 c8191_i32_1918
  let c8_i32_1919 : BitVec 32 := 8#32
  let v3570 : BitVec 32 := Scalar.muli v3569 c8_i32_1919
  v3570

def k0_off467 (v3567 : BitVec 32) : Fin 2 → Nat :=
  let c3_i32_1917 : BitVec 32 := 3#32
  let v3568 : BitVec 32 := Scalar.shrsi v3567 c3_i32_1917
  let c8191_i32_1918 : BitVec 32 := 8191#32
  let v3569 : BitVec 32 := Scalar.andi v3568 c8191_i32_1918
  let c8_i32_1919 : BitVec 32 := 8#32
  let v3570 : BitVec 32 := Scalar.muli v3569 c8_i32_1919
  let v3571 : BitVec 32 := v3570
  let v3572 : Index := Scalar.indexCast v3571
  let c0_1920 : Index := 0#32
  ![v3572.toNat, 0]
def k0_off468 (v3567 : BitVec 32) : Fin 2 → Nat :=
  let c3_i32_1917 : BitVec 32 := 3#32
  let v3568 : BitVec 32 := Scalar.shrsi v3567 c3_i32_1917
  let c8191_i32_1918 : BitVec 32 := 8191#32
  let v3569 : BitVec 32 := Scalar.andi v3568 c8191_i32_1918
  let v3577 : Index := Scalar.indexCast v3569
  let c0_1922 : Index := 0#32
  ![v3577.toNat, 0]

def k0_chk234 (i : grid0.Coords) (v3567 : BitVec 32) : Prop :=
  (∀ (k0_h1 : k0_cond1 i = 1#1), 8 ∣ (k0_mult234 v3567).toNat) ∧
  (∀ (k0_h1 : k0_cond1 i = 1#1), ∀ a, (k0_off467 v3567) a + S8x128.size a ≤ S65536x128.size a) ∧
  (∀ (k0_h1 : k0_cond1 i = 1#1), ∀ a, (k0_off468 v3567) a + S1x128.size a ≤ S8192x128.size a)
theorem k0_mult234_dvd : ∀ (i : grid0.Coords) (v3567 : BitVec 32) (k0_hw234 : k0_chk234 i v3567), ∀ (k0_h1 : k0_cond1 i = 1#1), 8 ∣ (k0_mult234 v3567).toNat := fun i v3567 k0_hw234 k0_h1 => k0_hw234.1 k0_h1
theorem k0_off467_inb : ∀ (i : grid0.Coords) (v3567 : BitVec 32) (k0_hw234 : k0_chk234 i v3567), ∀ (k0_h1 : k0_cond1 i = 1#1), ∀ a, (k0_off467 v3567) a + S8x128.size a ≤ S65536x128.size a := fun i v3567 k0_hw234 k0_h1 => k0_hw234.2.1 k0_h1
theorem k0_off468_inb : ∀ (i : grid0.Coords) (v3567 : BitVec 32) (k0_hw234 : k0_chk234 i v3567), ∀ (k0_h1 : k0_cond1 i = 1#1), ∀ a, (k0_off468 v3567) a + S1x128.size a ≤ S8192x128.size a := fun i v3567 k0_hw234 k0_h1 => k0_hw234.2.2 k0_h1

def k0_mult235 (v3582 : BitVec 32) : BitVec 32 :=
  let c3_i32_1925 : BitVec 32 := 3#32
  let v3583 : BitVec 32 := Scalar.shrsi v3582 c3_i32_1925
  let c8191_i32_1926 : BitVec 32 := 8191#32
  let v3584 : BitVec 32 := Scalar.andi v3583 c8191_i32_1926
  let c8_i32_1927 : BitVec 32 := 8#32
  let v3585 : BitVec 32 := Scalar.muli v3584 c8_i32_1927
  v3585

def k0_off469 (v3582 : BitVec 32) : Fin 2 → Nat :=
  let c3_i32_1925 : BitVec 32 := 3#32
  let v3583 : BitVec 32 := Scalar.shrsi v3582 c3_i32_1925
  let c8191_i32_1926 : BitVec 32 := 8191#32
  let v3584 : BitVec 32 := Scalar.andi v3583 c8191_i32_1926
  let c8_i32_1927 : BitVec 32 := 8#32
  let v3585 : BitVec 32 := Scalar.muli v3584 c8_i32_1927
  let v3586 : BitVec 32 := v3585
  let v3587 : Index := Scalar.indexCast v3586
  let c0_1928 : Index := 0#32
  ![v3587.toNat, 0]
def k0_off470 (v3582 : BitVec 32) : Fin 2 → Nat :=
  let c3_i32_1925 : BitVec 32 := 3#32
  let v3583 : BitVec 32 := Scalar.shrsi v3582 c3_i32_1925
  let c8191_i32_1926 : BitVec 32 := 8191#32
  let v3584 : BitVec 32 := Scalar.andi v3583 c8191_i32_1926
  let v3592 : Index := Scalar.indexCast v3584
  let c0_1930 : Index := 0#32
  ![v3592.toNat, 0]

def k0_chk235 (i : grid0.Coords) (v3582 : BitVec 32) : Prop :=
  (∀ (k0_h1 : k0_cond1 i = 1#1), 8 ∣ (k0_mult235 v3582).toNat) ∧
  (∀ (k0_h1 : k0_cond1 i = 1#1), ∀ a, (k0_off469 v3582) a + S8x128.size a ≤ S65536x128.size a) ∧
  (∀ (k0_h1 : k0_cond1 i = 1#1), ∀ a, (k0_off470 v3582) a + S1x128.size a ≤ S8192x128.size a)
theorem k0_mult235_dvd : ∀ (i : grid0.Coords) (v3582 : BitVec 32) (k0_hw235 : k0_chk235 i v3582), ∀ (k0_h1 : k0_cond1 i = 1#1), 8 ∣ (k0_mult235 v3582).toNat := fun i v3582 k0_hw235 k0_h1 => k0_hw235.1 k0_h1
theorem k0_off469_inb : ∀ (i : grid0.Coords) (v3582 : BitVec 32) (k0_hw235 : k0_chk235 i v3582), ∀ (k0_h1 : k0_cond1 i = 1#1), ∀ a, (k0_off469 v3582) a + S8x128.size a ≤ S65536x128.size a := fun i v3582 k0_hw235 k0_h1 => k0_hw235.2.1 k0_h1
theorem k0_off470_inb : ∀ (i : grid0.Coords) (v3582 : BitVec 32) (k0_hw235 : k0_chk235 i v3582), ∀ (k0_h1 : k0_cond1 i = 1#1), ∀ a, (k0_off470 v3582) a + S1x128.size a ≤ S8192x128.size a := fun i v3582 k0_hw235 k0_h1 => k0_hw235.2.2 k0_h1

def k0_mult236 (v3597 : BitVec 32) : BitVec 32 :=
  let c3_i32_1933 : BitVec 32 := 3#32
  let v3598 : BitVec 32 := Scalar.shrsi v3597 c3_i32_1933
  let c8191_i32_1934 : BitVec 32 := 8191#32
  let v3599 : BitVec 32 := Scalar.andi v3598 c8191_i32_1934
  let c8_i32_1935 : BitVec 32 := 8#32
  let v3600 : BitVec 32 := Scalar.muli v3599 c8_i32_1935
  v3600

def k0_off471 (v3597 : BitVec 32) : Fin 2 → Nat :=
  let c3_i32_1933 : BitVec 32 := 3#32
  let v3598 : BitVec 32 := Scalar.shrsi v3597 c3_i32_1933
  let c8191_i32_1934 : BitVec 32 := 8191#32
  let v3599 : BitVec 32 := Scalar.andi v3598 c8191_i32_1934
  let c8_i32_1935 : BitVec 32 := 8#32
  let v3600 : BitVec 32 := Scalar.muli v3599 c8_i32_1935
  let v3601 : BitVec 32 := v3600
  let v3602 : Index := Scalar.indexCast v3601
  let c0_1936 : Index := 0#32
  ![v3602.toNat, 0]
def k0_off472 (v3597 : BitVec 32) : Fin 2 → Nat :=
  let c3_i32_1933 : BitVec 32 := 3#32
  let v3598 : BitVec 32 := Scalar.shrsi v3597 c3_i32_1933
  let c8191_i32_1934 : BitVec 32 := 8191#32
  let v3599 : BitVec 32 := Scalar.andi v3598 c8191_i32_1934
  let v3607 : Index := Scalar.indexCast v3599
  let c0_1938 : Index := 0#32
  ![v3607.toNat, 0]

def k0_chk236 (i : grid0.Coords) (v3597 : BitVec 32) : Prop :=
  (∀ (k0_h1 : k0_cond1 i = 1#1), 8 ∣ (k0_mult236 v3597).toNat) ∧
  (∀ (k0_h1 : k0_cond1 i = 1#1), ∀ a, (k0_off471 v3597) a + S8x128.size a ≤ S65536x128.size a) ∧
  (∀ (k0_h1 : k0_cond1 i = 1#1), ∀ a, (k0_off472 v3597) a + S1x128.size a ≤ S8192x128.size a)
theorem k0_mult236_dvd : ∀ (i : grid0.Coords) (v3597 : BitVec 32) (k0_hw236 : k0_chk236 i v3597), ∀ (k0_h1 : k0_cond1 i = 1#1), 8 ∣ (k0_mult236 v3597).toNat := fun i v3597 k0_hw236 k0_h1 => k0_hw236.1 k0_h1
theorem k0_off471_inb : ∀ (i : grid0.Coords) (v3597 : BitVec 32) (k0_hw236 : k0_chk236 i v3597), ∀ (k0_h1 : k0_cond1 i = 1#1), ∀ a, (k0_off471 v3597) a + S8x128.size a ≤ S65536x128.size a := fun i v3597 k0_hw236 k0_h1 => k0_hw236.2.1 k0_h1
theorem k0_off472_inb : ∀ (i : grid0.Coords) (v3597 : BitVec 32) (k0_hw236 : k0_chk236 i v3597), ∀ (k0_h1 : k0_cond1 i = 1#1), ∀ a, (k0_off472 v3597) a + S1x128.size a ≤ S8192x128.size a := fun i v3597 k0_hw236 k0_h1 => k0_hw236.2.2 k0_h1

def k0_mult237 (v3612 : BitVec 32) : BitVec 32 :=
  let c3_i32_1941 : BitVec 32 := 3#32
  let v3613 : BitVec 32 := Scalar.shrsi v3612 c3_i32_1941
  let c8191_i32_1942 : BitVec 32 := 8191#32
  let v3614 : BitVec 32 := Scalar.andi v3613 c8191_i32_1942
  let c8_i32_1943 : BitVec 32 := 8#32
  let v3615 : BitVec 32 := Scalar.muli v3614 c8_i32_1943
  v3615

def k0_off473 (v3612 : BitVec 32) : Fin 2 → Nat :=
  let c3_i32_1941 : BitVec 32 := 3#32
  let v3613 : BitVec 32 := Scalar.shrsi v3612 c3_i32_1941
  let c8191_i32_1942 : BitVec 32 := 8191#32
  let v3614 : BitVec 32 := Scalar.andi v3613 c8191_i32_1942
  let c8_i32_1943 : BitVec 32 := 8#32
  let v3615 : BitVec 32 := Scalar.muli v3614 c8_i32_1943
  let v3616 : BitVec 32 := v3615
  let v3617 : Index := Scalar.indexCast v3616
  let c0_1944 : Index := 0#32
  ![v3617.toNat, 0]
def k0_off474 (v3612 : BitVec 32) : Fin 2 → Nat :=
  let c3_i32_1941 : BitVec 32 := 3#32
  let v3613 : BitVec 32 := Scalar.shrsi v3612 c3_i32_1941
  let c8191_i32_1942 : BitVec 32 := 8191#32
  let v3614 : BitVec 32 := Scalar.andi v3613 c8191_i32_1942
  let v3622 : Index := Scalar.indexCast v3614
  let c0_1946 : Index := 0#32
  ![v3622.toNat, 0]

def k0_chk237 (i : grid0.Coords) (v3612 : BitVec 32) : Prop :=
  (∀ (k0_h1 : k0_cond1 i = 1#1), 8 ∣ (k0_mult237 v3612).toNat) ∧
  (∀ (k0_h1 : k0_cond1 i = 1#1), ∀ a, (k0_off473 v3612) a + S8x128.size a ≤ S65536x128.size a) ∧
  (∀ (k0_h1 : k0_cond1 i = 1#1), ∀ a, (k0_off474 v3612) a + S1x128.size a ≤ S8192x128.size a)
theorem k0_mult237_dvd : ∀ (i : grid0.Coords) (v3612 : BitVec 32) (k0_hw237 : k0_chk237 i v3612), ∀ (k0_h1 : k0_cond1 i = 1#1), 8 ∣ (k0_mult237 v3612).toNat := fun i v3612 k0_hw237 k0_h1 => k0_hw237.1 k0_h1
theorem k0_off473_inb : ∀ (i : grid0.Coords) (v3612 : BitVec 32) (k0_hw237 : k0_chk237 i v3612), ∀ (k0_h1 : k0_cond1 i = 1#1), ∀ a, (k0_off473 v3612) a + S8x128.size a ≤ S65536x128.size a := fun i v3612 k0_hw237 k0_h1 => k0_hw237.2.1 k0_h1
theorem k0_off474_inb : ∀ (i : grid0.Coords) (v3612 : BitVec 32) (k0_hw237 : k0_chk237 i v3612), ∀ (k0_h1 : k0_cond1 i = 1#1), ∀ a, (k0_off474 v3612) a + S1x128.size a ≤ S8192x128.size a := fun i v3612 k0_hw237 k0_h1 => k0_hw237.2.2 k0_h1

def k0_mult238 (v3627 : BitVec 32) : BitVec 32 :=
  let c3_i32_1949 : BitVec 32 := 3#32
  let v3628 : BitVec 32 := Scalar.shrsi v3627 c3_i32_1949
  let c8191_i32_1950 : BitVec 32 := 8191#32
  let v3629 : BitVec 32 := Scalar.andi v3628 c8191_i32_1950
  let c8_i32_1951 : BitVec 32 := 8#32
  let v3630 : BitVec 32 := Scalar.muli v3629 c8_i32_1951
  v3630

def k0_off475 (v3627 : BitVec 32) : Fin 2 → Nat :=
  let c3_i32_1949 : BitVec 32 := 3#32
  let v3628 : BitVec 32 := Scalar.shrsi v3627 c3_i32_1949
  let c8191_i32_1950 : BitVec 32 := 8191#32
  let v3629 : BitVec 32 := Scalar.andi v3628 c8191_i32_1950
  let c8_i32_1951 : BitVec 32 := 8#32
  let v3630 : BitVec 32 := Scalar.muli v3629 c8_i32_1951
  let v3631 : BitVec 32 := v3630
  let v3632 : Index := Scalar.indexCast v3631
  let c0_1952 : Index := 0#32
  ![v3632.toNat, 0]
def k0_off476 (v3627 : BitVec 32) : Fin 2 → Nat :=
  let c3_i32_1949 : BitVec 32 := 3#32
  let v3628 : BitVec 32 := Scalar.shrsi v3627 c3_i32_1949
  let c8191_i32_1950 : BitVec 32 := 8191#32
  let v3629 : BitVec 32 := Scalar.andi v3628 c8191_i32_1950
  let v3637 : Index := Scalar.indexCast v3629
  let c0_1954 : Index := 0#32
  ![v3637.toNat, 0]

def k0_chk238 (i : grid0.Coords) (v3627 : BitVec 32) : Prop :=
  (∀ (k0_h1 : k0_cond1 i = 1#1), 8 ∣ (k0_mult238 v3627).toNat) ∧
  (∀ (k0_h1 : k0_cond1 i = 1#1), ∀ a, (k0_off475 v3627) a + S8x128.size a ≤ S65536x128.size a) ∧
  (∀ (k0_h1 : k0_cond1 i = 1#1), ∀ a, (k0_off476 v3627) a + S1x128.size a ≤ S8192x128.size a)
theorem k0_mult238_dvd : ∀ (i : grid0.Coords) (v3627 : BitVec 32) (k0_hw238 : k0_chk238 i v3627), ∀ (k0_h1 : k0_cond1 i = 1#1), 8 ∣ (k0_mult238 v3627).toNat := fun i v3627 k0_hw238 k0_h1 => k0_hw238.1 k0_h1
theorem k0_off475_inb : ∀ (i : grid0.Coords) (v3627 : BitVec 32) (k0_hw238 : k0_chk238 i v3627), ∀ (k0_h1 : k0_cond1 i = 1#1), ∀ a, (k0_off475 v3627) a + S8x128.size a ≤ S65536x128.size a := fun i v3627 k0_hw238 k0_h1 => k0_hw238.2.1 k0_h1
theorem k0_off476_inb : ∀ (i : grid0.Coords) (v3627 : BitVec 32) (k0_hw238 : k0_chk238 i v3627), ∀ (k0_h1 : k0_cond1 i = 1#1), ∀ a, (k0_off476 v3627) a + S1x128.size a ≤ S8192x128.size a := fun i v3627 k0_hw238 k0_h1 => k0_hw238.2.2 k0_h1

def k0_mult239 (v3642 : BitVec 32) : BitVec 32 :=
  let c3_i32_1957 : BitVec 32 := 3#32
  let v3643 : BitVec 32 := Scalar.shrsi v3642 c3_i32_1957
  let c8191_i32_1958 : BitVec 32 := 8191#32
  let v3644 : BitVec 32 := Scalar.andi v3643 c8191_i32_1958
  let c8_i32_1959 : BitVec 32 := 8#32
  let v3645 : BitVec 32 := Scalar.muli v3644 c8_i32_1959
  v3645

def k0_off477 (v3642 : BitVec 32) : Fin 2 → Nat :=
  let c3_i32_1957 : BitVec 32 := 3#32
  let v3643 : BitVec 32 := Scalar.shrsi v3642 c3_i32_1957
  let c8191_i32_1958 : BitVec 32 := 8191#32
  let v3644 : BitVec 32 := Scalar.andi v3643 c8191_i32_1958
  let c8_i32_1959 : BitVec 32 := 8#32
  let v3645 : BitVec 32 := Scalar.muli v3644 c8_i32_1959
  let v3646 : BitVec 32 := v3645
  let v3647 : Index := Scalar.indexCast v3646
  let c0_1960 : Index := 0#32
  ![v3647.toNat, 0]
def k0_off478 (v3642 : BitVec 32) : Fin 2 → Nat :=
  let c3_i32_1957 : BitVec 32 := 3#32
  let v3643 : BitVec 32 := Scalar.shrsi v3642 c3_i32_1957
  let c8191_i32_1958 : BitVec 32 := 8191#32
  let v3644 : BitVec 32 := Scalar.andi v3643 c8191_i32_1958
  let v3652 : Index := Scalar.indexCast v3644
  let c0_1962 : Index := 0#32
  ![v3652.toNat, 0]

def k0_chk239 (i : grid0.Coords) (v3642 : BitVec 32) : Prop :=
  (∀ (k0_h1 : k0_cond1 i = 1#1), 8 ∣ (k0_mult239 v3642).toNat) ∧
  (∀ (k0_h1 : k0_cond1 i = 1#1), ∀ a, (k0_off477 v3642) a + S8x128.size a ≤ S65536x128.size a) ∧
  (∀ (k0_h1 : k0_cond1 i = 1#1), ∀ a, (k0_off478 v3642) a + S1x128.size a ≤ S8192x128.size a)
theorem k0_mult239_dvd : ∀ (i : grid0.Coords) (v3642 : BitVec 32) (k0_hw239 : k0_chk239 i v3642), ∀ (k0_h1 : k0_cond1 i = 1#1), 8 ∣ (k0_mult239 v3642).toNat := fun i v3642 k0_hw239 k0_h1 => k0_hw239.1 k0_h1
theorem k0_off477_inb : ∀ (i : grid0.Coords) (v3642 : BitVec 32) (k0_hw239 : k0_chk239 i v3642), ∀ (k0_h1 : k0_cond1 i = 1#1), ∀ a, (k0_off477 v3642) a + S8x128.size a ≤ S65536x128.size a := fun i v3642 k0_hw239 k0_h1 => k0_hw239.2.1 k0_h1
theorem k0_off478_inb : ∀ (i : grid0.Coords) (v3642 : BitVec 32) (k0_hw239 : k0_chk239 i v3642), ∀ (k0_h1 : k0_cond1 i = 1#1), ∀ a, (k0_off478 v3642) a + S1x128.size a ≤ S8192x128.size a := fun i v3642 k0_hw239 k0_h1 => k0_hw239.2.2 k0_h1

def k0_mult240 (v3657 : BitVec 32) : BitVec 32 :=
  let c3_i32_1965 : BitVec 32 := 3#32
  let v3658 : BitVec 32 := Scalar.shrsi v3657 c3_i32_1965
  let c8191_i32_1966 : BitVec 32 := 8191#32
  let v3659 : BitVec 32 := Scalar.andi v3658 c8191_i32_1966
  let c8_i32_1967 : BitVec 32 := 8#32
  let v3660 : BitVec 32 := Scalar.muli v3659 c8_i32_1967
  v3660

def k0_off479 (v3657 : BitVec 32) : Fin 2 → Nat :=
  let c3_i32_1965 : BitVec 32 := 3#32
  let v3658 : BitVec 32 := Scalar.shrsi v3657 c3_i32_1965
  let c8191_i32_1966 : BitVec 32 := 8191#32
  let v3659 : BitVec 32 := Scalar.andi v3658 c8191_i32_1966
  let c8_i32_1967 : BitVec 32 := 8#32
  let v3660 : BitVec 32 := Scalar.muli v3659 c8_i32_1967
  let v3661 : BitVec 32 := v3660
  let v3662 : Index := Scalar.indexCast v3661
  let c0_1968 : Index := 0#32
  ![v3662.toNat, 0]
def k0_off480 (v3657 : BitVec 32) : Fin 2 → Nat :=
  let c3_i32_1965 : BitVec 32 := 3#32
  let v3658 : BitVec 32 := Scalar.shrsi v3657 c3_i32_1965
  let c8191_i32_1966 : BitVec 32 := 8191#32
  let v3659 : BitVec 32 := Scalar.andi v3658 c8191_i32_1966
  let v3667 : Index := Scalar.indexCast v3659
  let c0_1970 : Index := 0#32
  ![v3667.toNat, 0]

def k0_chk240 (i : grid0.Coords) (v3657 : BitVec 32) : Prop :=
  (∀ (k0_h1 : k0_cond1 i = 1#1), 8 ∣ (k0_mult240 v3657).toNat) ∧
  (∀ (k0_h1 : k0_cond1 i = 1#1), ∀ a, (k0_off479 v3657) a + S8x128.size a ≤ S65536x128.size a) ∧
  (∀ (k0_h1 : k0_cond1 i = 1#1), ∀ a, (k0_off480 v3657) a + S1x128.size a ≤ S8192x128.size a)
theorem k0_mult240_dvd : ∀ (i : grid0.Coords) (v3657 : BitVec 32) (k0_hw240 : k0_chk240 i v3657), ∀ (k0_h1 : k0_cond1 i = 1#1), 8 ∣ (k0_mult240 v3657).toNat := fun i v3657 k0_hw240 k0_h1 => k0_hw240.1 k0_h1
theorem k0_off479_inb : ∀ (i : grid0.Coords) (v3657 : BitVec 32) (k0_hw240 : k0_chk240 i v3657), ∀ (k0_h1 : k0_cond1 i = 1#1), ∀ a, (k0_off479 v3657) a + S8x128.size a ≤ S65536x128.size a := fun i v3657 k0_hw240 k0_h1 => k0_hw240.2.1 k0_h1
theorem k0_off480_inb : ∀ (i : grid0.Coords) (v3657 : BitVec 32) (k0_hw240 : k0_chk240 i v3657), ∀ (k0_h1 : k0_cond1 i = 1#1), ∀ a, (k0_off480 v3657) a + S1x128.size a ≤ S8192x128.size a := fun i v3657 k0_hw240 k0_h1 => k0_hw240.2.2 k0_h1

def k0_mult241 (v3672 : BitVec 32) : BitVec 32 :=
  let c3_i32_1974 : BitVec 32 := 3#32
  let v3673 : BitVec 32 := Scalar.shrsi v3672 c3_i32_1974
  let c8191_i32_1975 : BitVec 32 := 8191#32
  let v3674 : BitVec 32 := Scalar.andi v3673 c8191_i32_1975
  let c8_i32_1976 : BitVec 32 := 8#32
  let v3675 : BitVec 32 := Scalar.muli v3674 c8_i32_1976
  v3675

def k0_off481 (v3672 : BitVec 32) : Fin 2 → Nat :=
  let c3_i32_1974 : BitVec 32 := 3#32
  let v3673 : BitVec 32 := Scalar.shrsi v3672 c3_i32_1974
  let c8191_i32_1975 : BitVec 32 := 8191#32
  let v3674 : BitVec 32 := Scalar.andi v3673 c8191_i32_1975
  let c8_i32_1976 : BitVec 32 := 8#32
  let v3675 : BitVec 32 := Scalar.muli v3674 c8_i32_1976
  let v3676 : BitVec 32 := v3675
  let v3677 : Index := Scalar.indexCast v3676
  let c0_1977 : Index := 0#32
  ![v3677.toNat, 0]
def k0_off482 (v3672 : BitVec 32) : Fin 2 → Nat :=
  let c3_i32_1974 : BitVec 32 := 3#32
  let v3673 : BitVec 32 := Scalar.shrsi v3672 c3_i32_1974
  let c8191_i32_1975 : BitVec 32 := 8191#32
  let v3674 : BitVec 32 := Scalar.andi v3673 c8191_i32_1975
  let v3682 : Index := Scalar.indexCast v3674
  let c0_1979 : Index := 0#32
  ![v3682.toNat, 0]

def k0_chk241 (i : grid0.Coords) (v3672 : BitVec 32) : Prop :=
  (∀ (k0_h1 : k0_cond1 i = 1#1), 8 ∣ (k0_mult241 v3672).toNat) ∧
  (∀ (k0_h1 : k0_cond1 i = 1#1), ∀ a, (k0_off481 v3672) a + S8x128.size a ≤ S65536x128.size a) ∧
  (∀ (k0_h1 : k0_cond1 i = 1#1), ∀ a, (k0_off482 v3672) a + S1x128.size a ≤ S8192x128.size a)
theorem k0_mult241_dvd : ∀ (i : grid0.Coords) (v3672 : BitVec 32) (k0_hw241 : k0_chk241 i v3672), ∀ (k0_h1 : k0_cond1 i = 1#1), 8 ∣ (k0_mult241 v3672).toNat := fun i v3672 k0_hw241 k0_h1 => k0_hw241.1 k0_h1
theorem k0_off481_inb : ∀ (i : grid0.Coords) (v3672 : BitVec 32) (k0_hw241 : k0_chk241 i v3672), ∀ (k0_h1 : k0_cond1 i = 1#1), ∀ a, (k0_off481 v3672) a + S8x128.size a ≤ S65536x128.size a := fun i v3672 k0_hw241 k0_h1 => k0_hw241.2.1 k0_h1
theorem k0_off482_inb : ∀ (i : grid0.Coords) (v3672 : BitVec 32) (k0_hw241 : k0_chk241 i v3672), ∀ (k0_h1 : k0_cond1 i = 1#1), ∀ a, (k0_off482 v3672) a + S1x128.size a ≤ S8192x128.size a := fun i v3672 k0_hw241 k0_h1 => k0_hw241.2.2 k0_h1

def k0_mult242 (v3687 : BitVec 32) : BitVec 32 :=
  let c3_i32_1982 : BitVec 32 := 3#32
  let v3688 : BitVec 32 := Scalar.shrsi v3687 c3_i32_1982
  let c8191_i32_1983 : BitVec 32 := 8191#32
  let v3689 : BitVec 32 := Scalar.andi v3688 c8191_i32_1983
  let c8_i32_1984 : BitVec 32 := 8#32
  let v3690 : BitVec 32 := Scalar.muli v3689 c8_i32_1984
  v3690

def k0_off483 (v3687 : BitVec 32) : Fin 2 → Nat :=
  let c3_i32_1982 : BitVec 32 := 3#32
  let v3688 : BitVec 32 := Scalar.shrsi v3687 c3_i32_1982
  let c8191_i32_1983 : BitVec 32 := 8191#32
  let v3689 : BitVec 32 := Scalar.andi v3688 c8191_i32_1983
  let c8_i32_1984 : BitVec 32 := 8#32
  let v3690 : BitVec 32 := Scalar.muli v3689 c8_i32_1984
  let v3691 : BitVec 32 := v3690
  let v3692 : Index := Scalar.indexCast v3691
  let c0_1985 : Index := 0#32
  ![v3692.toNat, 0]
def k0_off484 (v3687 : BitVec 32) : Fin 2 → Nat :=
  let c3_i32_1982 : BitVec 32 := 3#32
  let v3688 : BitVec 32 := Scalar.shrsi v3687 c3_i32_1982
  let c8191_i32_1983 : BitVec 32 := 8191#32
  let v3689 : BitVec 32 := Scalar.andi v3688 c8191_i32_1983
  let v3697 : Index := Scalar.indexCast v3689
  let c0_1987 : Index := 0#32
  ![v3697.toNat, 0]

def k0_chk242 (i : grid0.Coords) (v3687 : BitVec 32) : Prop :=
  (∀ (k0_h1 : k0_cond1 i = 1#1), 8 ∣ (k0_mult242 v3687).toNat) ∧
  (∀ (k0_h1 : k0_cond1 i = 1#1), ∀ a, (k0_off483 v3687) a + S8x128.size a ≤ S65536x128.size a) ∧
  (∀ (k0_h1 : k0_cond1 i = 1#1), ∀ a, (k0_off484 v3687) a + S1x128.size a ≤ S8192x128.size a)
theorem k0_mult242_dvd : ∀ (i : grid0.Coords) (v3687 : BitVec 32) (k0_hw242 : k0_chk242 i v3687), ∀ (k0_h1 : k0_cond1 i = 1#1), 8 ∣ (k0_mult242 v3687).toNat := fun i v3687 k0_hw242 k0_h1 => k0_hw242.1 k0_h1
theorem k0_off483_inb : ∀ (i : grid0.Coords) (v3687 : BitVec 32) (k0_hw242 : k0_chk242 i v3687), ∀ (k0_h1 : k0_cond1 i = 1#1), ∀ a, (k0_off483 v3687) a + S8x128.size a ≤ S65536x128.size a := fun i v3687 k0_hw242 k0_h1 => k0_hw242.2.1 k0_h1
theorem k0_off484_inb : ∀ (i : grid0.Coords) (v3687 : BitVec 32) (k0_hw242 : k0_chk242 i v3687), ∀ (k0_h1 : k0_cond1 i = 1#1), ∀ a, (k0_off484 v3687) a + S1x128.size a ≤ S8192x128.size a := fun i v3687 k0_hw242 k0_h1 => k0_hw242.2.2 k0_h1

def k0_mult243 (v3702 : BitVec 32) : BitVec 32 :=
  let c3_i32_1990 : BitVec 32 := 3#32
  let v3703 : BitVec 32 := Scalar.shrsi v3702 c3_i32_1990
  let c8191_i32_1991 : BitVec 32 := 8191#32
  let v3704 : BitVec 32 := Scalar.andi v3703 c8191_i32_1991
  let c8_i32_1992 : BitVec 32 := 8#32
  let v3705 : BitVec 32 := Scalar.muli v3704 c8_i32_1992
  v3705

def k0_off485 (v3702 : BitVec 32) : Fin 2 → Nat :=
  let c3_i32_1990 : BitVec 32 := 3#32
  let v3703 : BitVec 32 := Scalar.shrsi v3702 c3_i32_1990
  let c8191_i32_1991 : BitVec 32 := 8191#32
  let v3704 : BitVec 32 := Scalar.andi v3703 c8191_i32_1991
  let c8_i32_1992 : BitVec 32 := 8#32
  let v3705 : BitVec 32 := Scalar.muli v3704 c8_i32_1992
  let v3706 : BitVec 32 := v3705
  let v3707 : Index := Scalar.indexCast v3706
  let c0_1993 : Index := 0#32
  ![v3707.toNat, 0]
def k0_off486 (v3702 : BitVec 32) : Fin 2 → Nat :=
  let c3_i32_1990 : BitVec 32 := 3#32
  let v3703 : BitVec 32 := Scalar.shrsi v3702 c3_i32_1990
  let c8191_i32_1991 : BitVec 32 := 8191#32
  let v3704 : BitVec 32 := Scalar.andi v3703 c8191_i32_1991
  let v3712 : Index := Scalar.indexCast v3704
  let c0_1995 : Index := 0#32
  ![v3712.toNat, 0]

def k0_chk243 (i : grid0.Coords) (v3702 : BitVec 32) : Prop :=
  (∀ (k0_h1 : k0_cond1 i = 1#1), 8 ∣ (k0_mult243 v3702).toNat) ∧
  (∀ (k0_h1 : k0_cond1 i = 1#1), ∀ a, (k0_off485 v3702) a + S8x128.size a ≤ S65536x128.size a) ∧
  (∀ (k0_h1 : k0_cond1 i = 1#1), ∀ a, (k0_off486 v3702) a + S1x128.size a ≤ S8192x128.size a)
theorem k0_mult243_dvd : ∀ (i : grid0.Coords) (v3702 : BitVec 32) (k0_hw243 : k0_chk243 i v3702), ∀ (k0_h1 : k0_cond1 i = 1#1), 8 ∣ (k0_mult243 v3702).toNat := fun i v3702 k0_hw243 k0_h1 => k0_hw243.1 k0_h1
theorem k0_off485_inb : ∀ (i : grid0.Coords) (v3702 : BitVec 32) (k0_hw243 : k0_chk243 i v3702), ∀ (k0_h1 : k0_cond1 i = 1#1), ∀ a, (k0_off485 v3702) a + S8x128.size a ≤ S65536x128.size a := fun i v3702 k0_hw243 k0_h1 => k0_hw243.2.1 k0_h1
theorem k0_off486_inb : ∀ (i : grid0.Coords) (v3702 : BitVec 32) (k0_hw243 : k0_chk243 i v3702), ∀ (k0_h1 : k0_cond1 i = 1#1), ∀ a, (k0_off486 v3702) a + S1x128.size a ≤ S8192x128.size a := fun i v3702 k0_hw243 k0_h1 => k0_hw243.2.2 k0_h1

def k0_mult244 (v3717 : BitVec 32) : BitVec 32 :=
  let c3_i32_1998 : BitVec 32 := 3#32
  let v3718 : BitVec 32 := Scalar.shrsi v3717 c3_i32_1998
  let c8191_i32_1999 : BitVec 32 := 8191#32
  let v3719 : BitVec 32 := Scalar.andi v3718 c8191_i32_1999
  let c8_i32_2000 : BitVec 32 := 8#32
  let v3720 : BitVec 32 := Scalar.muli v3719 c8_i32_2000
  v3720

def k0_off487 (v3717 : BitVec 32) : Fin 2 → Nat :=
  let c3_i32_1998 : BitVec 32 := 3#32
  let v3718 : BitVec 32 := Scalar.shrsi v3717 c3_i32_1998
  let c8191_i32_1999 : BitVec 32 := 8191#32
  let v3719 : BitVec 32 := Scalar.andi v3718 c8191_i32_1999
  let c8_i32_2000 : BitVec 32 := 8#32
  let v3720 : BitVec 32 := Scalar.muli v3719 c8_i32_2000
  let v3721 : BitVec 32 := v3720
  let v3722 : Index := Scalar.indexCast v3721
  let c0_2001 : Index := 0#32
  ![v3722.toNat, 0]
def k0_off488 (v3717 : BitVec 32) : Fin 2 → Nat :=
  let c3_i32_1998 : BitVec 32 := 3#32
  let v3718 : BitVec 32 := Scalar.shrsi v3717 c3_i32_1998
  let c8191_i32_1999 : BitVec 32 := 8191#32
  let v3719 : BitVec 32 := Scalar.andi v3718 c8191_i32_1999
  let v3727 : Index := Scalar.indexCast v3719
  let c0_2003 : Index := 0#32
  ![v3727.toNat, 0]

def k0_chk244 (i : grid0.Coords) (v3717 : BitVec 32) : Prop :=
  (∀ (k0_h1 : k0_cond1 i = 1#1), 8 ∣ (k0_mult244 v3717).toNat) ∧
  (∀ (k0_h1 : k0_cond1 i = 1#1), ∀ a, (k0_off487 v3717) a + S8x128.size a ≤ S65536x128.size a) ∧
  (∀ (k0_h1 : k0_cond1 i = 1#1), ∀ a, (k0_off488 v3717) a + S1x128.size a ≤ S8192x128.size a)
theorem k0_mult244_dvd : ∀ (i : grid0.Coords) (v3717 : BitVec 32) (k0_hw244 : k0_chk244 i v3717), ∀ (k0_h1 : k0_cond1 i = 1#1), 8 ∣ (k0_mult244 v3717).toNat := fun i v3717 k0_hw244 k0_h1 => k0_hw244.1 k0_h1
theorem k0_off487_inb : ∀ (i : grid0.Coords) (v3717 : BitVec 32) (k0_hw244 : k0_chk244 i v3717), ∀ (k0_h1 : k0_cond1 i = 1#1), ∀ a, (k0_off487 v3717) a + S8x128.size a ≤ S65536x128.size a := fun i v3717 k0_hw244 k0_h1 => k0_hw244.2.1 k0_h1
theorem k0_off488_inb : ∀ (i : grid0.Coords) (v3717 : BitVec 32) (k0_hw244 : k0_chk244 i v3717), ∀ (k0_h1 : k0_cond1 i = 1#1), ∀ a, (k0_off488 v3717) a + S1x128.size a ≤ S8192x128.size a := fun i v3717 k0_hw244 k0_h1 => k0_hw244.2.2 k0_h1

def k0_mult245 (v3732 : BitVec 32) : BitVec 32 :=
  let c3_i32_2006 : BitVec 32 := 3#32
  let v3733 : BitVec 32 := Scalar.shrsi v3732 c3_i32_2006
  let c8191_i32_2007 : BitVec 32 := 8191#32
  let v3734 : BitVec 32 := Scalar.andi v3733 c8191_i32_2007
  let c8_i32_2008 : BitVec 32 := 8#32
  let v3735 : BitVec 32 := Scalar.muli v3734 c8_i32_2008
  v3735

def k0_off489 (v3732 : BitVec 32) : Fin 2 → Nat :=
  let c3_i32_2006 : BitVec 32 := 3#32
  let v3733 : BitVec 32 := Scalar.shrsi v3732 c3_i32_2006
  let c8191_i32_2007 : BitVec 32 := 8191#32
  let v3734 : BitVec 32 := Scalar.andi v3733 c8191_i32_2007
  let c8_i32_2008 : BitVec 32 := 8#32
  let v3735 : BitVec 32 := Scalar.muli v3734 c8_i32_2008
  let v3736 : BitVec 32 := v3735
  let v3737 : Index := Scalar.indexCast v3736
  let c0_2009 : Index := 0#32
  ![v3737.toNat, 0]
def k0_off490 (v3732 : BitVec 32) : Fin 2 → Nat :=
  let c3_i32_2006 : BitVec 32 := 3#32
  let v3733 : BitVec 32 := Scalar.shrsi v3732 c3_i32_2006
  let c8191_i32_2007 : BitVec 32 := 8191#32
  let v3734 : BitVec 32 := Scalar.andi v3733 c8191_i32_2007
  let v3742 : Index := Scalar.indexCast v3734
  let c0_2011 : Index := 0#32
  ![v3742.toNat, 0]

def k0_chk245 (i : grid0.Coords) (v3732 : BitVec 32) : Prop :=
  (∀ (k0_h1 : k0_cond1 i = 1#1), 8 ∣ (k0_mult245 v3732).toNat) ∧
  (∀ (k0_h1 : k0_cond1 i = 1#1), ∀ a, (k0_off489 v3732) a + S8x128.size a ≤ S65536x128.size a) ∧
  (∀ (k0_h1 : k0_cond1 i = 1#1), ∀ a, (k0_off490 v3732) a + S1x128.size a ≤ S8192x128.size a)
theorem k0_mult245_dvd : ∀ (i : grid0.Coords) (v3732 : BitVec 32) (k0_hw245 : k0_chk245 i v3732), ∀ (k0_h1 : k0_cond1 i = 1#1), 8 ∣ (k0_mult245 v3732).toNat := fun i v3732 k0_hw245 k0_h1 => k0_hw245.1 k0_h1
theorem k0_off489_inb : ∀ (i : grid0.Coords) (v3732 : BitVec 32) (k0_hw245 : k0_chk245 i v3732), ∀ (k0_h1 : k0_cond1 i = 1#1), ∀ a, (k0_off489 v3732) a + S8x128.size a ≤ S65536x128.size a := fun i v3732 k0_hw245 k0_h1 => k0_hw245.2.1 k0_h1
theorem k0_off490_inb : ∀ (i : grid0.Coords) (v3732 : BitVec 32) (k0_hw245 : k0_chk245 i v3732), ∀ (k0_h1 : k0_cond1 i = 1#1), ∀ a, (k0_off490 v3732) a + S1x128.size a ≤ S8192x128.size a := fun i v3732 k0_hw245 k0_h1 => k0_hw245.2.2 k0_h1

def k0_mult246 (v3747 : BitVec 32) : BitVec 32 :=
  let c3_i32_2014 : BitVec 32 := 3#32
  let v3748 : BitVec 32 := Scalar.shrsi v3747 c3_i32_2014
  let c8191_i32_2015 : BitVec 32 := 8191#32
  let v3749 : BitVec 32 := Scalar.andi v3748 c8191_i32_2015
  let c8_i32_2016 : BitVec 32 := 8#32
  let v3750 : BitVec 32 := Scalar.muli v3749 c8_i32_2016
  v3750

def k0_off491 (v3747 : BitVec 32) : Fin 2 → Nat :=
  let c3_i32_2014 : BitVec 32 := 3#32
  let v3748 : BitVec 32 := Scalar.shrsi v3747 c3_i32_2014
  let c8191_i32_2015 : BitVec 32 := 8191#32
  let v3749 : BitVec 32 := Scalar.andi v3748 c8191_i32_2015
  let c8_i32_2016 : BitVec 32 := 8#32
  let v3750 : BitVec 32 := Scalar.muli v3749 c8_i32_2016
  let v3751 : BitVec 32 := v3750
  let v3752 : Index := Scalar.indexCast v3751
  let c0_2017 : Index := 0#32
  ![v3752.toNat, 0]
def k0_off492 (v3747 : BitVec 32) : Fin 2 → Nat :=
  let c3_i32_2014 : BitVec 32 := 3#32
  let v3748 : BitVec 32 := Scalar.shrsi v3747 c3_i32_2014
  let c8191_i32_2015 : BitVec 32 := 8191#32
  let v3749 : BitVec 32 := Scalar.andi v3748 c8191_i32_2015
  let v3757 : Index := Scalar.indexCast v3749
  let c0_2019 : Index := 0#32
  ![v3757.toNat, 0]

def k0_chk246 (i : grid0.Coords) (v3747 : BitVec 32) : Prop :=
  (∀ (k0_h1 : k0_cond1 i = 1#1), 8 ∣ (k0_mult246 v3747).toNat) ∧
  (∀ (k0_h1 : k0_cond1 i = 1#1), ∀ a, (k0_off491 v3747) a + S8x128.size a ≤ S65536x128.size a) ∧
  (∀ (k0_h1 : k0_cond1 i = 1#1), ∀ a, (k0_off492 v3747) a + S1x128.size a ≤ S8192x128.size a)
theorem k0_mult246_dvd : ∀ (i : grid0.Coords) (v3747 : BitVec 32) (k0_hw246 : k0_chk246 i v3747), ∀ (k0_h1 : k0_cond1 i = 1#1), 8 ∣ (k0_mult246 v3747).toNat := fun i v3747 k0_hw246 k0_h1 => k0_hw246.1 k0_h1
theorem k0_off491_inb : ∀ (i : grid0.Coords) (v3747 : BitVec 32) (k0_hw246 : k0_chk246 i v3747), ∀ (k0_h1 : k0_cond1 i = 1#1), ∀ a, (k0_off491 v3747) a + S8x128.size a ≤ S65536x128.size a := fun i v3747 k0_hw246 k0_h1 => k0_hw246.2.1 k0_h1
theorem k0_off492_inb : ∀ (i : grid0.Coords) (v3747 : BitVec 32) (k0_hw246 : k0_chk246 i v3747), ∀ (k0_h1 : k0_cond1 i = 1#1), ∀ a, (k0_off492 v3747) a + S1x128.size a ≤ S8192x128.size a := fun i v3747 k0_hw246 k0_h1 => k0_hw246.2.2 k0_h1

def k0_mult247 (v3762 : BitVec 32) : BitVec 32 :=
  let c3_i32_2022 : BitVec 32 := 3#32
  let v3763 : BitVec 32 := Scalar.shrsi v3762 c3_i32_2022
  let c8191_i32_2023 : BitVec 32 := 8191#32
  let v3764 : BitVec 32 := Scalar.andi v3763 c8191_i32_2023
  let c8_i32_2024 : BitVec 32 := 8#32
  let v3765 : BitVec 32 := Scalar.muli v3764 c8_i32_2024
  v3765

def k0_off493 (v3762 : BitVec 32) : Fin 2 → Nat :=
  let c3_i32_2022 : BitVec 32 := 3#32
  let v3763 : BitVec 32 := Scalar.shrsi v3762 c3_i32_2022
  let c8191_i32_2023 : BitVec 32 := 8191#32
  let v3764 : BitVec 32 := Scalar.andi v3763 c8191_i32_2023
  let c8_i32_2024 : BitVec 32 := 8#32
  let v3765 : BitVec 32 := Scalar.muli v3764 c8_i32_2024
  let v3766 : BitVec 32 := v3765
  let v3767 : Index := Scalar.indexCast v3766
  let c0_2025 : Index := 0#32
  ![v3767.toNat, 0]
def k0_off494 (v3762 : BitVec 32) : Fin 2 → Nat :=
  let c3_i32_2022 : BitVec 32 := 3#32
  let v3763 : BitVec 32 := Scalar.shrsi v3762 c3_i32_2022
  let c8191_i32_2023 : BitVec 32 := 8191#32
  let v3764 : BitVec 32 := Scalar.andi v3763 c8191_i32_2023
  let v3772 : Index := Scalar.indexCast v3764
  let c0_2027 : Index := 0#32
  ![v3772.toNat, 0]

def k0_chk247 (i : grid0.Coords) (v3762 : BitVec 32) : Prop :=
  (∀ (k0_h1 : k0_cond1 i = 1#1), 8 ∣ (k0_mult247 v3762).toNat) ∧
  (∀ (k0_h1 : k0_cond1 i = 1#1), ∀ a, (k0_off493 v3762) a + S8x128.size a ≤ S65536x128.size a) ∧
  (∀ (k0_h1 : k0_cond1 i = 1#1), ∀ a, (k0_off494 v3762) a + S1x128.size a ≤ S8192x128.size a)
theorem k0_mult247_dvd : ∀ (i : grid0.Coords) (v3762 : BitVec 32) (k0_hw247 : k0_chk247 i v3762), ∀ (k0_h1 : k0_cond1 i = 1#1), 8 ∣ (k0_mult247 v3762).toNat := fun i v3762 k0_hw247 k0_h1 => k0_hw247.1 k0_h1
theorem k0_off493_inb : ∀ (i : grid0.Coords) (v3762 : BitVec 32) (k0_hw247 : k0_chk247 i v3762), ∀ (k0_h1 : k0_cond1 i = 1#1), ∀ a, (k0_off493 v3762) a + S8x128.size a ≤ S65536x128.size a := fun i v3762 k0_hw247 k0_h1 => k0_hw247.2.1 k0_h1
theorem k0_off494_inb : ∀ (i : grid0.Coords) (v3762 : BitVec 32) (k0_hw247 : k0_chk247 i v3762), ∀ (k0_h1 : k0_cond1 i = 1#1), ∀ a, (k0_off494 v3762) a + S1x128.size a ≤ S8192x128.size a := fun i v3762 k0_hw247 k0_h1 => k0_hw247.2.2 k0_h1

def k0_mult248 (v3777 : BitVec 32) : BitVec 32 :=
  let c3_i32_2030 : BitVec 32 := 3#32
  let v3778 : BitVec 32 := Scalar.shrsi v3777 c3_i32_2030
  let c8191_i32_2031 : BitVec 32 := 8191#32
  let v3779 : BitVec 32 := Scalar.andi v3778 c8191_i32_2031
  let c8_i32_2032 : BitVec 32 := 8#32
  let v3780 : BitVec 32 := Scalar.muli v3779 c8_i32_2032
  v3780

def k0_off495 (v3777 : BitVec 32) : Fin 2 → Nat :=
  let c3_i32_2030 : BitVec 32 := 3#32
  let v3778 : BitVec 32 := Scalar.shrsi v3777 c3_i32_2030
  let c8191_i32_2031 : BitVec 32 := 8191#32
  let v3779 : BitVec 32 := Scalar.andi v3778 c8191_i32_2031
  let c8_i32_2032 : BitVec 32 := 8#32
  let v3780 : BitVec 32 := Scalar.muli v3779 c8_i32_2032
  let v3781 : BitVec 32 := v3780
  let v3782 : Index := Scalar.indexCast v3781
  let c0_2033 : Index := 0#32
  ![v3782.toNat, 0]
def k0_off496 (v3777 : BitVec 32) : Fin 2 → Nat :=
  let c3_i32_2030 : BitVec 32 := 3#32
  let v3778 : BitVec 32 := Scalar.shrsi v3777 c3_i32_2030
  let c8191_i32_2031 : BitVec 32 := 8191#32
  let v3779 : BitVec 32 := Scalar.andi v3778 c8191_i32_2031
  let v3787 : Index := Scalar.indexCast v3779
  let c0_2035 : Index := 0#32
  ![v3787.toNat, 0]

def k0_chk248 (i : grid0.Coords) (v3777 : BitVec 32) : Prop :=
  (∀ (k0_h1 : k0_cond1 i = 1#1), 8 ∣ (k0_mult248 v3777).toNat) ∧
  (∀ (k0_h1 : k0_cond1 i = 1#1), ∀ a, (k0_off495 v3777) a + S8x128.size a ≤ S65536x128.size a) ∧
  (∀ (k0_h1 : k0_cond1 i = 1#1), ∀ a, (k0_off496 v3777) a + S1x128.size a ≤ S8192x128.size a)
theorem k0_mult248_dvd : ∀ (i : grid0.Coords) (v3777 : BitVec 32) (k0_hw248 : k0_chk248 i v3777), ∀ (k0_h1 : k0_cond1 i = 1#1), 8 ∣ (k0_mult248 v3777).toNat := fun i v3777 k0_hw248 k0_h1 => k0_hw248.1 k0_h1
theorem k0_off495_inb : ∀ (i : grid0.Coords) (v3777 : BitVec 32) (k0_hw248 : k0_chk248 i v3777), ∀ (k0_h1 : k0_cond1 i = 1#1), ∀ a, (k0_off495 v3777) a + S8x128.size a ≤ S65536x128.size a := fun i v3777 k0_hw248 k0_h1 => k0_hw248.2.1 k0_h1
theorem k0_off496_inb : ∀ (i : grid0.Coords) (v3777 : BitVec 32) (k0_hw248 : k0_chk248 i v3777), ∀ (k0_h1 : k0_cond1 i = 1#1), ∀ a, (k0_off496 v3777) a + S1x128.size a ≤ S8192x128.size a := fun i v3777 k0_hw248 k0_h1 => k0_hw248.2.2 k0_h1

def k0_mult249 (v3792 : BitVec 32) : BitVec 32 :=
  let c3_i32_2039 : BitVec 32 := 3#32
  let v3793 : BitVec 32 := Scalar.shrsi v3792 c3_i32_2039
  let c8191_i32_2040 : BitVec 32 := 8191#32
  let v3794 : BitVec 32 := Scalar.andi v3793 c8191_i32_2040
  let c8_i32_2041 : BitVec 32 := 8#32
  let v3795 : BitVec 32 := Scalar.muli v3794 c8_i32_2041
  v3795

def k0_off497 (v3792 : BitVec 32) : Fin 2 → Nat :=
  let c3_i32_2039 : BitVec 32 := 3#32
  let v3793 : BitVec 32 := Scalar.shrsi v3792 c3_i32_2039
  let c8191_i32_2040 : BitVec 32 := 8191#32
  let v3794 : BitVec 32 := Scalar.andi v3793 c8191_i32_2040
  let c8_i32_2041 : BitVec 32 := 8#32
  let v3795 : BitVec 32 := Scalar.muli v3794 c8_i32_2041
  let v3796 : BitVec 32 := v3795
  let v3797 : Index := Scalar.indexCast v3796
  let c0_2042 : Index := 0#32
  ![v3797.toNat, 0]
def k0_off498 (v3792 : BitVec 32) : Fin 2 → Nat :=
  let c3_i32_2039 : BitVec 32 := 3#32
  let v3793 : BitVec 32 := Scalar.shrsi v3792 c3_i32_2039
  let c8191_i32_2040 : BitVec 32 := 8191#32
  let v3794 : BitVec 32 := Scalar.andi v3793 c8191_i32_2040
  let v3802 : Index := Scalar.indexCast v3794
  let c0_2044 : Index := 0#32
  ![v3802.toNat, 0]

def k0_chk249 (i : grid0.Coords) (v3792 : BitVec 32) : Prop :=
  (∀ (k0_h1 : k0_cond1 i = 1#1), 8 ∣ (k0_mult249 v3792).toNat) ∧
  (∀ (k0_h1 : k0_cond1 i = 1#1), ∀ a, (k0_off497 v3792) a + S8x128.size a ≤ S65536x128.size a) ∧
  (∀ (k0_h1 : k0_cond1 i = 1#1), ∀ a, (k0_off498 v3792) a + S1x128.size a ≤ S8192x128.size a)
theorem k0_mult249_dvd : ∀ (i : grid0.Coords) (v3792 : BitVec 32) (k0_hw249 : k0_chk249 i v3792), ∀ (k0_h1 : k0_cond1 i = 1#1), 8 ∣ (k0_mult249 v3792).toNat := fun i v3792 k0_hw249 k0_h1 => k0_hw249.1 k0_h1
theorem k0_off497_inb : ∀ (i : grid0.Coords) (v3792 : BitVec 32) (k0_hw249 : k0_chk249 i v3792), ∀ (k0_h1 : k0_cond1 i = 1#1), ∀ a, (k0_off497 v3792) a + S8x128.size a ≤ S65536x128.size a := fun i v3792 k0_hw249 k0_h1 => k0_hw249.2.1 k0_h1
theorem k0_off498_inb : ∀ (i : grid0.Coords) (v3792 : BitVec 32) (k0_hw249 : k0_chk249 i v3792), ∀ (k0_h1 : k0_cond1 i = 1#1), ∀ a, (k0_off498 v3792) a + S1x128.size a ≤ S8192x128.size a := fun i v3792 k0_hw249 k0_h1 => k0_hw249.2.2 k0_h1

def k0_mult250 (v3807 : BitVec 32) : BitVec 32 :=
  let c3_i32_2047 : BitVec 32 := 3#32
  let v3808 : BitVec 32 := Scalar.shrsi v3807 c3_i32_2047
  let c8191_i32_2048 : BitVec 32 := 8191#32
  let v3809 : BitVec 32 := Scalar.andi v3808 c8191_i32_2048
  let c8_i32_2049 : BitVec 32 := 8#32
  let v3810 : BitVec 32 := Scalar.muli v3809 c8_i32_2049
  v3810

def k0_off499 (v3807 : BitVec 32) : Fin 2 → Nat :=
  let c3_i32_2047 : BitVec 32 := 3#32
  let v3808 : BitVec 32 := Scalar.shrsi v3807 c3_i32_2047
  let c8191_i32_2048 : BitVec 32 := 8191#32
  let v3809 : BitVec 32 := Scalar.andi v3808 c8191_i32_2048
  let c8_i32_2049 : BitVec 32 := 8#32
  let v3810 : BitVec 32 := Scalar.muli v3809 c8_i32_2049
  let v3811 : BitVec 32 := v3810
  let v3812 : Index := Scalar.indexCast v3811
  let c0_2050 : Index := 0#32
  ![v3812.toNat, 0]
def k0_off500 (v3807 : BitVec 32) : Fin 2 → Nat :=
  let c3_i32_2047 : BitVec 32 := 3#32
  let v3808 : BitVec 32 := Scalar.shrsi v3807 c3_i32_2047
  let c8191_i32_2048 : BitVec 32 := 8191#32
  let v3809 : BitVec 32 := Scalar.andi v3808 c8191_i32_2048
  let v3817 : Index := Scalar.indexCast v3809
  let c0_2052 : Index := 0#32
  ![v3817.toNat, 0]

def k0_chk250 (i : grid0.Coords) (v3807 : BitVec 32) : Prop :=
  (∀ (k0_h1 : k0_cond1 i = 1#1), 8 ∣ (k0_mult250 v3807).toNat) ∧
  (∀ (k0_h1 : k0_cond1 i = 1#1), ∀ a, (k0_off499 v3807) a + S8x128.size a ≤ S65536x128.size a) ∧
  (∀ (k0_h1 : k0_cond1 i = 1#1), ∀ a, (k0_off500 v3807) a + S1x128.size a ≤ S8192x128.size a)
theorem k0_mult250_dvd : ∀ (i : grid0.Coords) (v3807 : BitVec 32) (k0_hw250 : k0_chk250 i v3807), ∀ (k0_h1 : k0_cond1 i = 1#1), 8 ∣ (k0_mult250 v3807).toNat := fun i v3807 k0_hw250 k0_h1 => k0_hw250.1 k0_h1
theorem k0_off499_inb : ∀ (i : grid0.Coords) (v3807 : BitVec 32) (k0_hw250 : k0_chk250 i v3807), ∀ (k0_h1 : k0_cond1 i = 1#1), ∀ a, (k0_off499 v3807) a + S8x128.size a ≤ S65536x128.size a := fun i v3807 k0_hw250 k0_h1 => k0_hw250.2.1 k0_h1
theorem k0_off500_inb : ∀ (i : grid0.Coords) (v3807 : BitVec 32) (k0_hw250 : k0_chk250 i v3807), ∀ (k0_h1 : k0_cond1 i = 1#1), ∀ a, (k0_off500 v3807) a + S1x128.size a ≤ S8192x128.size a := fun i v3807 k0_hw250 k0_h1 => k0_hw250.2.2 k0_h1

def k0_mult251 (v3822 : BitVec 32) : BitVec 32 :=
  let c3_i32_2055 : BitVec 32 := 3#32
  let v3823 : BitVec 32 := Scalar.shrsi v3822 c3_i32_2055
  let c8191_i32_2056 : BitVec 32 := 8191#32
  let v3824 : BitVec 32 := Scalar.andi v3823 c8191_i32_2056
  let c8_i32_2057 : BitVec 32 := 8#32
  let v3825 : BitVec 32 := Scalar.muli v3824 c8_i32_2057
  v3825

def k0_off501 (v3822 : BitVec 32) : Fin 2 → Nat :=
  let c3_i32_2055 : BitVec 32 := 3#32
  let v3823 : BitVec 32 := Scalar.shrsi v3822 c3_i32_2055
  let c8191_i32_2056 : BitVec 32 := 8191#32
  let v3824 : BitVec 32 := Scalar.andi v3823 c8191_i32_2056
  let c8_i32_2057 : BitVec 32 := 8#32
  let v3825 : BitVec 32 := Scalar.muli v3824 c8_i32_2057
  let v3826 : BitVec 32 := v3825
  let v3827 : Index := Scalar.indexCast v3826
  let c0_2058 : Index := 0#32
  ![v3827.toNat, 0]
def k0_off502 (v3822 : BitVec 32) : Fin 2 → Nat :=
  let c3_i32_2055 : BitVec 32 := 3#32
  let v3823 : BitVec 32 := Scalar.shrsi v3822 c3_i32_2055
  let c8191_i32_2056 : BitVec 32 := 8191#32
  let v3824 : BitVec 32 := Scalar.andi v3823 c8191_i32_2056
  let v3832 : Index := Scalar.indexCast v3824
  let c0_2060 : Index := 0#32
  ![v3832.toNat, 0]

def k0_chk251 (i : grid0.Coords) (v3822 : BitVec 32) : Prop :=
  (∀ (k0_h1 : k0_cond1 i = 1#1), 8 ∣ (k0_mult251 v3822).toNat) ∧
  (∀ (k0_h1 : k0_cond1 i = 1#1), ∀ a, (k0_off501 v3822) a + S8x128.size a ≤ S65536x128.size a) ∧
  (∀ (k0_h1 : k0_cond1 i = 1#1), ∀ a, (k0_off502 v3822) a + S1x128.size a ≤ S8192x128.size a)
theorem k0_mult251_dvd : ∀ (i : grid0.Coords) (v3822 : BitVec 32) (k0_hw251 : k0_chk251 i v3822), ∀ (k0_h1 : k0_cond1 i = 1#1), 8 ∣ (k0_mult251 v3822).toNat := fun i v3822 k0_hw251 k0_h1 => k0_hw251.1 k0_h1
theorem k0_off501_inb : ∀ (i : grid0.Coords) (v3822 : BitVec 32) (k0_hw251 : k0_chk251 i v3822), ∀ (k0_h1 : k0_cond1 i = 1#1), ∀ a, (k0_off501 v3822) a + S8x128.size a ≤ S65536x128.size a := fun i v3822 k0_hw251 k0_h1 => k0_hw251.2.1 k0_h1
theorem k0_off502_inb : ∀ (i : grid0.Coords) (v3822 : BitVec 32) (k0_hw251 : k0_chk251 i v3822), ∀ (k0_h1 : k0_cond1 i = 1#1), ∀ a, (k0_off502 v3822) a + S1x128.size a ≤ S8192x128.size a := fun i v3822 k0_hw251 k0_h1 => k0_hw251.2.2 k0_h1

def k0_mult252 (v3837 : BitVec 32) : BitVec 32 :=
  let c3_i32_2063 : BitVec 32 := 3#32
  let v3838 : BitVec 32 := Scalar.shrsi v3837 c3_i32_2063
  let c8191_i32_2064 : BitVec 32 := 8191#32
  let v3839 : BitVec 32 := Scalar.andi v3838 c8191_i32_2064
  let c8_i32_2065 : BitVec 32 := 8#32
  let v3840 : BitVec 32 := Scalar.muli v3839 c8_i32_2065
  v3840

def k0_off503 (v3837 : BitVec 32) : Fin 2 → Nat :=
  let c3_i32_2063 : BitVec 32 := 3#32
  let v3838 : BitVec 32 := Scalar.shrsi v3837 c3_i32_2063
  let c8191_i32_2064 : BitVec 32 := 8191#32
  let v3839 : BitVec 32 := Scalar.andi v3838 c8191_i32_2064
  let c8_i32_2065 : BitVec 32 := 8#32
  let v3840 : BitVec 32 := Scalar.muli v3839 c8_i32_2065
  let v3841 : BitVec 32 := v3840
  let v3842 : Index := Scalar.indexCast v3841
  let c0_2066 : Index := 0#32
  ![v3842.toNat, 0]
def k0_off504 (v3837 : BitVec 32) : Fin 2 → Nat :=
  let c3_i32_2063 : BitVec 32 := 3#32
  let v3838 : BitVec 32 := Scalar.shrsi v3837 c3_i32_2063
  let c8191_i32_2064 : BitVec 32 := 8191#32
  let v3839 : BitVec 32 := Scalar.andi v3838 c8191_i32_2064
  let v3847 : Index := Scalar.indexCast v3839
  let c0_2068 : Index := 0#32
  ![v3847.toNat, 0]

def k0_chk252 (i : grid0.Coords) (v3837 : BitVec 32) : Prop :=
  (∀ (k0_h1 : k0_cond1 i = 1#1), 8 ∣ (k0_mult252 v3837).toNat) ∧
  (∀ (k0_h1 : k0_cond1 i = 1#1), ∀ a, (k0_off503 v3837) a + S8x128.size a ≤ S65536x128.size a) ∧
  (∀ (k0_h1 : k0_cond1 i = 1#1), ∀ a, (k0_off504 v3837) a + S1x128.size a ≤ S8192x128.size a)
theorem k0_mult252_dvd : ∀ (i : grid0.Coords) (v3837 : BitVec 32) (k0_hw252 : k0_chk252 i v3837), ∀ (k0_h1 : k0_cond1 i = 1#1), 8 ∣ (k0_mult252 v3837).toNat := fun i v3837 k0_hw252 k0_h1 => k0_hw252.1 k0_h1
theorem k0_off503_inb : ∀ (i : grid0.Coords) (v3837 : BitVec 32) (k0_hw252 : k0_chk252 i v3837), ∀ (k0_h1 : k0_cond1 i = 1#1), ∀ a, (k0_off503 v3837) a + S8x128.size a ≤ S65536x128.size a := fun i v3837 k0_hw252 k0_h1 => k0_hw252.2.1 k0_h1
theorem k0_off504_inb : ∀ (i : grid0.Coords) (v3837 : BitVec 32) (k0_hw252 : k0_chk252 i v3837), ∀ (k0_h1 : k0_cond1 i = 1#1), ∀ a, (k0_off504 v3837) a + S1x128.size a ≤ S8192x128.size a := fun i v3837 k0_hw252 k0_h1 => k0_hw252.2.2 k0_h1

def k0_mult253 (v3852 : BitVec 32) : BitVec 32 :=
  let c3_i32_2071 : BitVec 32 := 3#32
  let v3853 : BitVec 32 := Scalar.shrsi v3852 c3_i32_2071
  let c8191_i32_2072 : BitVec 32 := 8191#32
  let v3854 : BitVec 32 := Scalar.andi v3853 c8191_i32_2072
  let c8_i32_2073 : BitVec 32 := 8#32
  let v3855 : BitVec 32 := Scalar.muli v3854 c8_i32_2073
  v3855

def k0_off505 (v3852 : BitVec 32) : Fin 2 → Nat :=
  let c3_i32_2071 : BitVec 32 := 3#32
  let v3853 : BitVec 32 := Scalar.shrsi v3852 c3_i32_2071
  let c8191_i32_2072 : BitVec 32 := 8191#32
  let v3854 : BitVec 32 := Scalar.andi v3853 c8191_i32_2072
  let c8_i32_2073 : BitVec 32 := 8#32
  let v3855 : BitVec 32 := Scalar.muli v3854 c8_i32_2073
  let v3856 : BitVec 32 := v3855
  let v3857 : Index := Scalar.indexCast v3856
  let c0_2074 : Index := 0#32
  ![v3857.toNat, 0]
def k0_off506 (v3852 : BitVec 32) : Fin 2 → Nat :=
  let c3_i32_2071 : BitVec 32 := 3#32
  let v3853 : BitVec 32 := Scalar.shrsi v3852 c3_i32_2071
  let c8191_i32_2072 : BitVec 32 := 8191#32
  let v3854 : BitVec 32 := Scalar.andi v3853 c8191_i32_2072
  let v3862 : Index := Scalar.indexCast v3854
  let c0_2076 : Index := 0#32
  ![v3862.toNat, 0]

def k0_chk253 (i : grid0.Coords) (v3852 : BitVec 32) : Prop :=
  (∀ (k0_h1 : k0_cond1 i = 1#1), 8 ∣ (k0_mult253 v3852).toNat) ∧
  (∀ (k0_h1 : k0_cond1 i = 1#1), ∀ a, (k0_off505 v3852) a + S8x128.size a ≤ S65536x128.size a) ∧
  (∀ (k0_h1 : k0_cond1 i = 1#1), ∀ a, (k0_off506 v3852) a + S1x128.size a ≤ S8192x128.size a)
theorem k0_mult253_dvd : ∀ (i : grid0.Coords) (v3852 : BitVec 32) (k0_hw253 : k0_chk253 i v3852), ∀ (k0_h1 : k0_cond1 i = 1#1), 8 ∣ (k0_mult253 v3852).toNat := fun i v3852 k0_hw253 k0_h1 => k0_hw253.1 k0_h1
theorem k0_off505_inb : ∀ (i : grid0.Coords) (v3852 : BitVec 32) (k0_hw253 : k0_chk253 i v3852), ∀ (k0_h1 : k0_cond1 i = 1#1), ∀ a, (k0_off505 v3852) a + S8x128.size a ≤ S65536x128.size a := fun i v3852 k0_hw253 k0_h1 => k0_hw253.2.1 k0_h1
theorem k0_off506_inb : ∀ (i : grid0.Coords) (v3852 : BitVec 32) (k0_hw253 : k0_chk253 i v3852), ∀ (k0_h1 : k0_cond1 i = 1#1), ∀ a, (k0_off506 v3852) a + S1x128.size a ≤ S8192x128.size a := fun i v3852 k0_hw253 k0_h1 => k0_hw253.2.2 k0_h1

def k0_mult254 (v3867 : BitVec 32) : BitVec 32 :=
  let c3_i32_2079 : BitVec 32 := 3#32
  let v3868 : BitVec 32 := Scalar.shrsi v3867 c3_i32_2079
  let c8191_i32_2080 : BitVec 32 := 8191#32
  let v3869 : BitVec 32 := Scalar.andi v3868 c8191_i32_2080
  let c8_i32_2081 : BitVec 32 := 8#32
  let v3870 : BitVec 32 := Scalar.muli v3869 c8_i32_2081
  v3870

def k0_off507 (v3867 : BitVec 32) : Fin 2 → Nat :=
  let c3_i32_2079 : BitVec 32 := 3#32
  let v3868 : BitVec 32 := Scalar.shrsi v3867 c3_i32_2079
  let c8191_i32_2080 : BitVec 32 := 8191#32
  let v3869 : BitVec 32 := Scalar.andi v3868 c8191_i32_2080
  let c8_i32_2081 : BitVec 32 := 8#32
  let v3870 : BitVec 32 := Scalar.muli v3869 c8_i32_2081
  let v3871 : BitVec 32 := v3870
  let v3872 : Index := Scalar.indexCast v3871
  let c0_2082 : Index := 0#32
  ![v3872.toNat, 0]
def k0_off508 (v3867 : BitVec 32) : Fin 2 → Nat :=
  let c3_i32_2079 : BitVec 32 := 3#32
  let v3868 : BitVec 32 := Scalar.shrsi v3867 c3_i32_2079
  let c8191_i32_2080 : BitVec 32 := 8191#32
  let v3869 : BitVec 32 := Scalar.andi v3868 c8191_i32_2080
  let v3877 : Index := Scalar.indexCast v3869
  let c0_2084 : Index := 0#32
  ![v3877.toNat, 0]

def k0_chk254 (i : grid0.Coords) (v3867 : BitVec 32) : Prop :=
  (∀ (k0_h1 : k0_cond1 i = 1#1), 8 ∣ (k0_mult254 v3867).toNat) ∧
  (∀ (k0_h1 : k0_cond1 i = 1#1), ∀ a, (k0_off507 v3867) a + S8x128.size a ≤ S65536x128.size a) ∧
  (∀ (k0_h1 : k0_cond1 i = 1#1), ∀ a, (k0_off508 v3867) a + S1x128.size a ≤ S8192x128.size a)
theorem k0_mult254_dvd : ∀ (i : grid0.Coords) (v3867 : BitVec 32) (k0_hw254 : k0_chk254 i v3867), ∀ (k0_h1 : k0_cond1 i = 1#1), 8 ∣ (k0_mult254 v3867).toNat := fun i v3867 k0_hw254 k0_h1 => k0_hw254.1 k0_h1
theorem k0_off507_inb : ∀ (i : grid0.Coords) (v3867 : BitVec 32) (k0_hw254 : k0_chk254 i v3867), ∀ (k0_h1 : k0_cond1 i = 1#1), ∀ a, (k0_off507 v3867) a + S8x128.size a ≤ S65536x128.size a := fun i v3867 k0_hw254 k0_h1 => k0_hw254.2.1 k0_h1
theorem k0_off508_inb : ∀ (i : grid0.Coords) (v3867 : BitVec 32) (k0_hw254 : k0_chk254 i v3867), ∀ (k0_h1 : k0_cond1 i = 1#1), ∀ a, (k0_off508 v3867) a + S1x128.size a ≤ S8192x128.size a := fun i v3867 k0_hw254 k0_h1 => k0_hw254.2.2 k0_h1

def k0_mult255 (v3882 : BitVec 32) : BitVec 32 :=
  let c3_i32_2087 : BitVec 32 := 3#32
  let v3883 : BitVec 32 := Scalar.shrsi v3882 c3_i32_2087
  let c8191_i32_2088 : BitVec 32 := 8191#32
  let v3884 : BitVec 32 := Scalar.andi v3883 c8191_i32_2088
  let c8_i32_2089 : BitVec 32 := 8#32
  let v3885 : BitVec 32 := Scalar.muli v3884 c8_i32_2089
  v3885

def k0_off509 (v3882 : BitVec 32) : Fin 2 → Nat :=
  let c3_i32_2087 : BitVec 32 := 3#32
  let v3883 : BitVec 32 := Scalar.shrsi v3882 c3_i32_2087
  let c8191_i32_2088 : BitVec 32 := 8191#32
  let v3884 : BitVec 32 := Scalar.andi v3883 c8191_i32_2088
  let c8_i32_2089 : BitVec 32 := 8#32
  let v3885 : BitVec 32 := Scalar.muli v3884 c8_i32_2089
  let v3886 : BitVec 32 := v3885
  let v3887 : Index := Scalar.indexCast v3886
  let c0_2090 : Index := 0#32
  ![v3887.toNat, 0]
def k0_off510 (v3882 : BitVec 32) : Fin 2 → Nat :=
  let c3_i32_2087 : BitVec 32 := 3#32
  let v3883 : BitVec 32 := Scalar.shrsi v3882 c3_i32_2087
  let c8191_i32_2088 : BitVec 32 := 8191#32
  let v3884 : BitVec 32 := Scalar.andi v3883 c8191_i32_2088
  let v3892 : Index := Scalar.indexCast v3884
  let c0_2092 : Index := 0#32
  ![v3892.toNat, 0]

def k0_chk255 (i : grid0.Coords) (v3882 : BitVec 32) : Prop :=
  (∀ (k0_h1 : k0_cond1 i = 1#1), 8 ∣ (k0_mult255 v3882).toNat) ∧
  (∀ (k0_h1 : k0_cond1 i = 1#1), ∀ a, (k0_off509 v3882) a + S8x128.size a ≤ S65536x128.size a) ∧
  (∀ (k0_h1 : k0_cond1 i = 1#1), ∀ a, (k0_off510 v3882) a + S1x128.size a ≤ S8192x128.size a)
theorem k0_mult255_dvd : ∀ (i : grid0.Coords) (v3882 : BitVec 32) (k0_hw255 : k0_chk255 i v3882), ∀ (k0_h1 : k0_cond1 i = 1#1), 8 ∣ (k0_mult255 v3882).toNat := fun i v3882 k0_hw255 k0_h1 => k0_hw255.1 k0_h1
theorem k0_off509_inb : ∀ (i : grid0.Coords) (v3882 : BitVec 32) (k0_hw255 : k0_chk255 i v3882), ∀ (k0_h1 : k0_cond1 i = 1#1), ∀ a, (k0_off509 v3882) a + S8x128.size a ≤ S65536x128.size a := fun i v3882 k0_hw255 k0_h1 => k0_hw255.2.1 k0_h1
theorem k0_off510_inb : ∀ (i : grid0.Coords) (v3882 : BitVec 32) (k0_hw255 : k0_chk255 i v3882), ∀ (k0_h1 : k0_cond1 i = 1#1), ∀ a, (k0_off510 v3882) a + S1x128.size a ≤ S8192x128.size a := fun i v3882 k0_hw255 k0_h1 => k0_hw255.2.2 k0_h1

def k0_mult256 (v3897 : BitVec 32) : BitVec 32 :=
  let c3_i32_2095 : BitVec 32 := 3#32
  let v3898 : BitVec 32 := Scalar.shrsi v3897 c3_i32_2095
  let c8191_i32_2096 : BitVec 32 := 8191#32
  let v3899 : BitVec 32 := Scalar.andi v3898 c8191_i32_2096
  let c8_i32_2097 : BitVec 32 := 8#32
  let v3900 : BitVec 32 := Scalar.muli v3899 c8_i32_2097
  v3900

def k0_off511 (v3897 : BitVec 32) : Fin 2 → Nat :=
  let c3_i32_2095 : BitVec 32 := 3#32
  let v3898 : BitVec 32 := Scalar.shrsi v3897 c3_i32_2095
  let c8191_i32_2096 : BitVec 32 := 8191#32
  let v3899 : BitVec 32 := Scalar.andi v3898 c8191_i32_2096
  let c8_i32_2097 : BitVec 32 := 8#32
  let v3900 : BitVec 32 := Scalar.muli v3899 c8_i32_2097
  let v3901 : BitVec 32 := v3900
  let v3902 : Index := Scalar.indexCast v3901
  let c0_2098 : Index := 0#32
  ![v3902.toNat, 0]
def k0_off512 (v3897 : BitVec 32) : Fin 2 → Nat :=
  let c3_i32_2095 : BitVec 32 := 3#32
  let v3898 : BitVec 32 := Scalar.shrsi v3897 c3_i32_2095
  let c8191_i32_2096 : BitVec 32 := 8191#32
  let v3899 : BitVec 32 := Scalar.andi v3898 c8191_i32_2096
  let v3907 : Index := Scalar.indexCast v3899
  let c0_2100 : Index := 0#32
  ![v3907.toNat, 0]

def k0_chk256 (i : grid0.Coords) (v3897 : BitVec 32) : Prop :=
  (∀ (k0_h1 : k0_cond1 i = 1#1), 8 ∣ (k0_mult256 v3897).toNat) ∧
  (∀ (k0_h1 : k0_cond1 i = 1#1), ∀ a, (k0_off511 v3897) a + S8x128.size a ≤ S65536x128.size a) ∧
  (∀ (k0_h1 : k0_cond1 i = 1#1), ∀ a, (k0_off512 v3897) a + S1x128.size a ≤ S8192x128.size a)
theorem k0_mult256_dvd : ∀ (i : grid0.Coords) (v3897 : BitVec 32) (k0_hw256 : k0_chk256 i v3897), ∀ (k0_h1 : k0_cond1 i = 1#1), 8 ∣ (k0_mult256 v3897).toNat := fun i v3897 k0_hw256 k0_h1 => k0_hw256.1 k0_h1
theorem k0_off511_inb : ∀ (i : grid0.Coords) (v3897 : BitVec 32) (k0_hw256 : k0_chk256 i v3897), ∀ (k0_h1 : k0_cond1 i = 1#1), ∀ a, (k0_off511 v3897) a + S8x128.size a ≤ S65536x128.size a := fun i v3897 k0_hw256 k0_h1 => k0_hw256.2.1 k0_h1
theorem k0_off512_inb : ∀ (i : grid0.Coords) (v3897 : BitVec 32) (k0_hw256 : k0_chk256 i v3897), ∀ (k0_h1 : k0_cond1 i = 1#1), ∀ a, (k0_off512 v3897) a + S1x128.size a ≤ S8192x128.size a := fun i v3897 k0_hw256 k0_h1 => k0_hw256.2.2 k0_h1

def k0_off513 (i : grid0.Coords) : Fin 1 → Nat :=
  let c2_i32 : BitVec 32 := 2#32
  let arg0 : BitVec 32 := BitVec.ofNat 32 (i 0).val
  let v3 : BitVec 32 := Scalar.muli c2_i32 arg0
  let c319_i32 : BitVec 32 := 319#32
  let v4 : BitVec 32 := Scalar.minsi v3 c319_i32
  let v5 : Index := Scalar.indexCast v4
  ![v5.toNat]
def k0_off514 (v6 : BitVec 32) (c65_i32 : BitVec 32) : Fin 1 → Nat :=
  let v7 : BitVec 32 := Scalar.addi c65_i32 v6
  let v8 : Index := Scalar.indexCast v7
  ![v8.toNat]

def k0_chk257 (v6 : BitVec 32) : Prop :=
  (∀ (r : Fin 2), ∀ a, (k0_off514 v6 (BitVec.ofNat 32 (65 + 64 * r.val))) a + S1.size a ≤ S193.size a)
theorem k0_off514_inb : ∀ (v6 : BitVec 32) (k0_hw257 : k0_chk257 v6), ∀ (r : Fin 2), ∀ a, (k0_off514 v6 (BitVec.ofNat 32 (65 + 64 * r.val))) a + S1.size a ≤ S193.size a := fun v6 k0_hw257 r => k0_hw257 r

def k0_off515 (v9 : BitVec 32) : Fin 2 → Nat :=
  let c0_i32_26 : BitVec 32 := 0#32
  ![v9.toNat, 0]
def k0_cond2 (i : grid0.Coords) (v13 : BitVec 32) : BitVec 1 :=
  let c2_i32 : BitVec 32 := 2#32
  let arg0 : BitVec 32 := BitVec.ofNat 32 (i 0).val
  let v3 : BitVec 32 := Scalar.muli c2_i32 arg0
  let v14 : BitVec 1 := Scalar.cmpi .slt v3 v13
  let c0_i32_1 : BitVec 32 := 0#32
  let v15 : BitVec 1 := Scalar.cmpi .eq v3 c0_i32_1
  let v16 : BitVec 1 := Scalar.andi v14 v15
  let v17 : BitVec 32 := Scalar.extui v16
  let c0_i32_2 : BitVec 32 := 0#32
  let v18 : BitVec 1 := Scalar.cmpi .ne v17 c0_i32_2
  v18

def k0_off516 (v9 : BitVec 32) : Fin 4 → Nat :=
  let c0_i32_25 : BitVec 32 := 0#32
  let c0_i32_27 : BitVec 32 := 0#32
  let c0_i32_28 : BitVec 32 := 0#32
  ![v9.toNat, 0, 0, 0]
def k0_off517 (v6 : BitVec 32) : Fin 3 → Nat :=
  let c0_i32_29 : BitVec 32 := 0#32
  let c0_i32_30 : BitVec 32 := 0#32
  ![v6.toNat, 0, 0]
def k0_off518 (v9 : BitVec 32) : Fin 2 → Nat :=
  let c1_i32_32 : BitVec 32 := 1#32
  ![v9.toNat, 1]
def k0_off519 (v9 : BitVec 32) : Fin 4 → Nat :=
  let c1_i32_31 : BitVec 32 := 1#32
  let c0_i32_33 : BitVec 32 := 0#32
  let c0_i32_34 : BitVec 32 := 0#32
  ![v9.toNat, 1, 0, 0]
def k0_off520 (i : grid0.Coords) : Fin 1 → Nat :=
  let c2_i32 : BitVec 32 := 2#32
  let arg0 : BitVec 32 := BitVec.ofNat 32 (i 0).val
  let v3 : BitVec 32 := Scalar.muli c2_i32 arg0
  let c319_i32_3 : BitVec 32 := 319#32
  let v19 : BitVec 32 := Scalar.minsi v3 c319_i32_3
  let v21 : Index := Scalar.indexCast v19
  ![v21.toNat]
def k0_off521 (i : grid0.Coords) : Fin 1 → Nat :=
  let c2_i32 : BitVec 32 := 2#32
  let arg0 : BitVec 32 := BitVec.ofNat 32 (i 0).val
  let v3 : BitVec 32 := Scalar.muli c2_i32 arg0
  let c319_i32_3 : BitVec 32 := 319#32
  let v19 : BitVec 32 := Scalar.minsi v3 c319_i32_3
  let c1_i32 : BitVec 32 := 1#32
  let v23 : BitVec 32 := Scalar.subi v19 c1_i32
  let c0_i32_5 : BitVec 32 := 0#32
  let v24 : BitVec 32 := Scalar.maxsi v23 c0_i32_5
  let v25 : Index := Scalar.indexCast v24
  ![v25.toNat]
def k0_off522 (v9 : BitVec 32) : Fin 2 → Nat :=
  let c0_i32_26 : BitVec 32 := 0#32
  ![v9.toNat, 0]
def k0_cond3 (i : grid0.Coords) (v13 : BitVec 32) (v22 : BitVec 32) (v26 : BitVec 32) : BitVec 1 :=
  let c2_i32 : BitVec 32 := 2#32
  let arg0 : BitVec 32 := BitVec.ofNat 32 (i 0).val
  let v3 : BitVec 32 := Scalar.muli c2_i32 arg0
  let v14 : BitVec 1 := Scalar.cmpi .slt v3 v13
  let c319_i32_3 : BitVec 32 := 319#32
  let v19 : BitVec 32 := Scalar.minsi v3 c319_i32_3
  let c0_i32_4 : BitVec 32 := 0#32
  let v20 : BitVec 1 := Scalar.cmpi .eq v19 c0_i32_4
  let v27 : BitVec 1 := Scalar.cmpi .ne v22 v26
  let v28 : BitVec 1 := Scalar.ori v20 v27
  let v29 : BitVec 1 := Scalar.andi v14 v28
  let v30 : BitVec 32 := Scalar.extui v29
  let c0_i32_6 : BitVec 32 := 0#32
  let v31 : BitVec 1 := Scalar.cmpi .ne v30 c0_i32_6
  v31

def k0_off523 (v9 : BitVec 32) : Fin 4 → Nat :=
  let c0_i32_25 : BitVec 32 := 0#32
  let c0_i32_27 : BitVec 32 := 0#32
  let c0_i32_28 : BitVec 32 := 0#32
  ![v9.toNat, 0, 0, 0]
def k0_off524 (v6 : BitVec 32) : Fin 3 → Nat :=
  let c0_i32_29 : BitVec 32 := 0#32
  let c0_i32_30 : BitVec 32 := 0#32
  ![v6.toNat, 0, 0]
def k0_off525 (v9 : BitVec 32) : Fin 2 → Nat :=
  let c1_i32_32 : BitVec 32 := 1#32
  ![v9.toNat, 1]
def k0_off526 (v9 : BitVec 32) : Fin 4 → Nat :=
  let c1_i32_31 : BitVec 32 := 1#32
  let c0_i32_33 : BitVec 32 := 0#32
  let c0_i32_34 : BitVec 32 := 0#32
  ![v9.toNat, 1, 0, 0]
def k0_off527 (v9 : BitVec 32) : Fin 2 → Nat :=
  let c1_i32_47 : BitVec 32 := 1#32
  let v101 : BitVec 32 := Scalar.subi c1_i32_47 v9
  let c0_i32_49 : BitVec 32 := 0#32
  ![v101.toNat, 0]
def k0_cond4 (v12 : BitVec 32) : BitVec 1 :=
  let c0_i32_37 : BitVec 32 := 0#32
  let v84 : BitVec 1 := Scalar.cmpi .sge v12 c0_i32_37
  let v85 : BitVec 32 := Scalar.extui v84
  let c0_i32_38 : BitVec 32 := 0#32
  let v86 : BitVec 1 := Scalar.cmpi .ne v85 c0_i32_38
  v86

def k0_off528 (v9 : BitVec 32) : Fin 4 → Nat :=
  let c1_i32_47 : BitVec 32 := 1#32
  let v101 : BitVec 32 := Scalar.subi c1_i32_47 v9
  let c0_i32_48 : BitVec 32 := 0#32
  let c0_i32_50 : BitVec 32 := 0#32
  let c0_i32_51 : BitVec 32 := 0#32
  ![v101.toNat, 0, 0, 0]
def k0_off529 (v12 : BitVec 32) : Fin 3 → Nat :=
  let c0_i32_52 : BitVec 32 := 0#32
  let c0_i32_53 : BitVec 32 := 0#32
  ![v12.toNat, 0, 0]
def k0_off530 (v9 : BitVec 32) : Fin 2 → Nat :=
  let c1_i32_47 : BitVec 32 := 1#32
  let v101 : BitVec 32 := Scalar.subi c1_i32_47 v9
  let c1_i32_55 : BitVec 32 := 1#32
  ![v101.toNat, 1]
def k0_off531 (v9 : BitVec 32) : Fin 4 → Nat :=
  let c1_i32_47 : BitVec 32 := 1#32
  let v101 : BitVec 32 := Scalar.subi c1_i32_47 v9
  let c1_i32_54 : BitVec 32 := 1#32
  let c0_i32_56 : BitVec 32 := 0#32
  let c0_i32_57 : BitVec 32 := 0#32
  ![v101.toNat, 1, 0, 0]
def k0_off532 (v9 : BitVec 32) : Fin 4 → Nat :=
  let v87 : Index := Scalar.indexCast v9
  let c0_39 : Index := 0#32
  let c0_40 : Index := 0#32
  let c0_41 : Index := 0#32
  ![v87.toNat, 0, 0, 0]
def k0_off533 (v9 : BitVec 32) : Fin 4 → Nat :=
  let v94 : Index := Scalar.indexCast v9
  let c1 : Index := 1#32
  let c0_44 : Index := 0#32
  let c0_45 : Index := 0#32
  ![v94.toNat, 1, 0, 0]

def k0_chk259 (i : grid0.Coords) (v6 : BitVec 32) (v9 : BitVec 32) (v12 : BitVec 32) (v13 : BitVec 32) (v22 : BitVec 32) (v26 : BitVec 32) : Prop :=
  (∀ (k0_h3 : k0_cond3 i v13 v22 v26 = 1#1), ∀ a, (k0_off522 v9) a + S1x1.size a ≤ S2x2.size a) ∧
  (∀ (k0_h3 : k0_cond3 i v13 v22 v26 = 1#1), ∀ a, (k0_off523 v9) a + S1x1x2048x512.size a ≤ S2x2x2048x512.size a) ∧
  (∀ (k0_h3 : k0_cond3 i v13 v22 v26 = 1#1), ∀ a, (k0_off524 v6) a + S1x2048x512.size a ≤ S64x2048x512.size a) ∧
  (∀ (k0_h3 : k0_cond3 i v13 v22 v26 = 1#1), ∀ a, (k0_off525 v9) a + S1x1.size a ≤ S2x2.size a) ∧
  (∀ (k0_h3 : k0_cond3 i v13 v22 v26 = 1#1), ∀ a, (k0_off526 v9) a + S1x1x2048x512.size a ≤ S2x2x2048x512.size a) ∧
  (∀ (k0_h3 : k0_cond3 i v13 v22 v26 = 1#1), ∀ (k0_h4 : k0_cond4 v12 = 1#1), ∀ a, (k0_off527 v9) a + S1x1.size a ≤ S2x2.size a) ∧
  (∀ (k0_h3 : k0_cond3 i v13 v22 v26 = 1#1), ∀ (k0_h4 : k0_cond4 v12 = 1#1), ∀ a, (k0_off528 v9) a + S1x1x2048x512.size a ≤ S2x2x2048x512.size a) ∧
  (∀ (k0_h3 : k0_cond3 i v13 v22 v26 = 1#1), ∀ (k0_h4 : k0_cond4 v12 = 1#1), ∀ a, (k0_off529 v12) a + S1x2048x512.size a ≤ S64x2048x512.size a) ∧
  (∀ (k0_h3 : k0_cond3 i v13 v22 v26 = 1#1), ∀ (k0_h4 : k0_cond4 v12 = 1#1), ∀ a, (k0_off530 v9) a + S1x1.size a ≤ S2x2.size a) ∧
  (∀ (k0_h3 : k0_cond3 i v13 v22 v26 = 1#1), ∀ (k0_h4 : k0_cond4 v12 = 1#1), ∀ a, (k0_off531 v9) a + S1x1x2048x512.size a ≤ S2x2x2048x512.size a) ∧
  (∀ (k0_h3 : k0_cond3 i v13 v22 v26 = 1#1), ∀ a, (k0_off532 v9) a + S1x1x2048x512.size a ≤ S2x2x2048x512.size a) ∧
  (∀ (k0_h3 : k0_cond3 i v13 v22 v26 = 1#1), ∀ a, (k0_off533 v9) a + S1x1x2048x512.size a ≤ S2x2x2048x512.size a)
theorem k0_off522_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off522 v9) a + S1x1.size a ≤ S2x2.size a := fun i v6 v9 v12 v13 v22 v26 k0_hw259 k0_h3 => k0_hw259.1 k0_h3
theorem k0_off523_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off523 v9) a + S1x1x2048x512.size a ≤ S2x2x2048x512.size a := fun i v6 v9 v12 v13 v22 v26 k0_hw259 k0_h3 => k0_hw259.2.1 k0_h3
theorem k0_off524_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off524 v6) a + S1x2048x512.size a ≤ S64x2048x512.size a := fun i v6 v9 v12 v13 v22 v26 k0_hw259 k0_h3 => k0_hw259.2.2.1 k0_h3
theorem k0_off525_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off525 v9) a + S1x1.size a ≤ S2x2.size a := fun i v6 v9 v12 v13 v22 v26 k0_hw259 k0_h3 => k0_hw259.2.2.2.1 k0_h3
theorem k0_off526_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off526 v9) a + S1x1x2048x512.size a ≤ S2x2x2048x512.size a := fun i v6 v9 v12 v13 v22 v26 k0_hw259 k0_h3 => k0_hw259.2.2.2.2.1 k0_h3
theorem k0_off527_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ (k0_h4 : k0_cond4 v12 = 1#1), ∀ a, (k0_off527 v9) a + S1x1.size a ≤ S2x2.size a := fun i v6 v9 v12 v13 v22 v26 k0_hw259 k0_h3 k0_h4 => k0_hw259.2.2.2.2.2.1 k0_h3 k0_h4
theorem k0_off528_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ (k0_h4 : k0_cond4 v12 = 1#1), ∀ a, (k0_off528 v9) a + S1x1x2048x512.size a ≤ S2x2x2048x512.size a := fun i v6 v9 v12 v13 v22 v26 k0_hw259 k0_h3 k0_h4 => k0_hw259.2.2.2.2.2.2.1 k0_h3 k0_h4
theorem k0_off529_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ (k0_h4 : k0_cond4 v12 = 1#1), ∀ a, (k0_off529 v12) a + S1x2048x512.size a ≤ S64x2048x512.size a := fun i v6 v9 v12 v13 v22 v26 k0_hw259 k0_h3 k0_h4 => k0_hw259.2.2.2.2.2.2.2.1 k0_h3 k0_h4
theorem k0_off530_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ (k0_h4 : k0_cond4 v12 = 1#1), ∀ a, (k0_off530 v9) a + S1x1.size a ≤ S2x2.size a := fun i v6 v9 v12 v13 v22 v26 k0_hw259 k0_h3 k0_h4 => k0_hw259.2.2.2.2.2.2.2.2.1 k0_h3 k0_h4
theorem k0_off531_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ (k0_h4 : k0_cond4 v12 = 1#1), ∀ a, (k0_off531 v9) a + S1x1x2048x512.size a ≤ S2x2x2048x512.size a := fun i v6 v9 v12 v13 v22 v26 k0_hw259 k0_h3 k0_h4 => k0_hw259.2.2.2.2.2.2.2.2.2.1 k0_h3 k0_h4
theorem k0_off532_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off532 v9) a + S1x1x2048x512.size a ≤ S2x2x2048x512.size a := fun i v6 v9 v12 v13 v22 v26 k0_hw259 k0_h3 => k0_hw259.2.2.2.2.2.2.2.2.2.2.1 k0_h3
theorem k0_off533_inb : ∀ (i : grid0.Coords) (v6 : BitVec 32) (v9 : BitVec 32) (v12 : BitVec 32) (v13 : BitVec 32) (v22 : BitVec 32) (v26 : BitVec 32) (k0_hw259 : k0_chk259 i v6 v9 v12 v13 v22 v26), ∀ (k0_h3 : k0_cond3 i v13 v22 v26 = 1#1), ∀ a, (k0_off533 v9) a + S1x1x2048x512.size a ≤ S2x2x2048x512.size a := fun i v6 v9 v12 v13 v22 v26 k0_hw259 k0_h3 => k0_hw259.2.2.2.2.2.2.2.2.2.2.2 k0_h3

def k0_off534 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c0_i32_27 : BitVec 32 := 0#32
  let v75 : BitVec 32 := Scalar.addi v74 c0_i32_27
  let v76 : Index := Scalar.indexCast v75
  ![v76.toNat]
def k0_mult257 (v77 : BitVec 32) : BitVec 32 :=
  let c3_i32 : BitVec 32 := 3#32
  let v78 : BitVec 32 := Scalar.shrsi v77 c3_i32
  let c8191_i32 : BitVec 32 := 8191#32
  let v79 : BitVec 32 := Scalar.andi v78 c8191_i32
  let c8_i32 : BitVec 32 := 8#32
  let v80 : BitVec 32 := Scalar.muli v79 c8_i32
  v80
def k0_cond5 (i : grid0.Coords) (v13 : BitVec 32) : BitVec 1 :=
  let c2_i32 : BitVec 32 := 2#32
  let arg0 : BitVec 32 := BitVec.ofNat 32 (i 0).val
  let v3 : BitVec 32 := Scalar.muli c2_i32 arg0
  let v14 : BitVec 1 := Scalar.cmpi .slt v3 v13
  let v32 : BitVec 32 := Scalar.extui v14
  let c0_i32_7 : BitVec 32 := 0#32
  let v33 : BitVec 1 := Scalar.cmpi .ne v32 c0_i32_7
  v33

def k0_off535 (v77 : BitVec 32) : Fin 2 → Nat :=
  let c3_i32 : BitVec 32 := 3#32
  let v78 : BitVec 32 := Scalar.shrsi v77 c3_i32
  let c8191_i32 : BitVec 32 := 8191#32
  let v79 : BitVec 32 := Scalar.andi v78 c8191_i32
  let c8_i32 : BitVec 32 := 8#32
  let v80 : BitVec 32 := Scalar.muli v79 c8_i32
  let v81 : BitVec 32 := v80
  let v82 : Index := Scalar.indexCast v81
  let c0_28 : Index := 0#32
  ![v82.toNat, 0]
def k0_off536 (v77 : BitVec 32) : Fin 2 → Nat :=
  let c3_i32 : BitVec 32 := 3#32
  let v78 : BitVec 32 := Scalar.shrsi v77 c3_i32
  let c8191_i32 : BitVec 32 := 8191#32
  let v79 : BitVec 32 := Scalar.andi v78 c8191_i32
  let v87 : Index := Scalar.indexCast v79
  let c0_31 : Index := 0#32
  ![v87.toNat, 0]

def k0_chk260 (i : grid0.Coords) (v13 : BitVec 32) (v77 : BitVec 32) : Prop :=
  (∀ (k0_h5 : k0_cond5 i v13 = 1#1), 8 ∣ (k0_mult257 v77).toNat) ∧
  (∀ (k0_h5 : k0_cond5 i v13 = 1#1), ∀ a, (k0_off535 v77) a + S8x128.size a ≤ S65536x128.size a) ∧
  (∀ (k0_h5 : k0_cond5 i v13 = 1#1), ∀ a, (k0_off536 v77) a + S1x128.size a ≤ S8192x128.size a)
theorem k0_mult257_dvd : ∀ (i : grid0.Coords) (v13 : BitVec 32) (v77 : BitVec 32) (k0_hw260 : k0_chk260 i v13 v77), ∀ (k0_h5 : k0_cond5 i v13 = 1#1), 8 ∣ (k0_mult257 v77).toNat := fun i v13 v77 k0_hw260 k0_h5 => k0_hw260.1 k0_h5
theorem k0_off535_inb : ∀ (i : grid0.Coords) (v13 : BitVec 32) (v77 : BitVec 32) (k0_hw260 : k0_chk260 i v13 v77), ∀ (k0_h5 : k0_cond5 i v13 = 1#1), ∀ a, (k0_off535 v77) a + S8x128.size a ≤ S65536x128.size a := fun i v13 v77 k0_hw260 k0_h5 => k0_hw260.2.1 k0_h5
theorem k0_off536_inb : ∀ (i : grid0.Coords) (v13 : BitVec 32) (v77 : BitVec 32) (k0_hw260 : k0_chk260 i v13 v77), ∀ (k0_h5 : k0_cond5 i v13 = 1#1), ∀ a, (k0_off536 v77) a + S1x128.size a ≤ S8192x128.size a := fun i v13 v77 k0_hw260 k0_h5 => k0_hw260.2.2 k0_h5

def k0_off537 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c1_i32_34 : BitVec 32 := 1#32
  let v92 : BitVec 32 := Scalar.addi v74 c1_i32_34
  let v93 : Index := Scalar.indexCast v92
  ![v93.toNat]
def k0_mult258 (v94 : BitVec 32) : BitVec 32 :=
  let c3_i32_35 : BitVec 32 := 3#32
  let v95 : BitVec 32 := Scalar.shrsi v94 c3_i32_35
  let c8191_i32_36 : BitVec 32 := 8191#32
  let v96 : BitVec 32 := Scalar.andi v95 c8191_i32_36
  let c8_i32_37 : BitVec 32 := 8#32
  let v97 : BitVec 32 := Scalar.muli v96 c8_i32_37
  v97

def k0_off538 (v94 : BitVec 32) : Fin 2 → Nat :=
  let c3_i32_35 : BitVec 32 := 3#32
  let v95 : BitVec 32 := Scalar.shrsi v94 c3_i32_35
  let c8191_i32_36 : BitVec 32 := 8191#32
  let v96 : BitVec 32 := Scalar.andi v95 c8191_i32_36
  let c8_i32_37 : BitVec 32 := 8#32
  let v97 : BitVec 32 := Scalar.muli v96 c8_i32_37
  let v98 : BitVec 32 := v97
  let v99 : Index := Scalar.indexCast v98
  let c0_38 : Index := 0#32
  ![v99.toNat, 0]
def k0_off539 (v94 : BitVec 32) : Fin 2 → Nat :=
  let c3_i32_35 : BitVec 32 := 3#32
  let v95 : BitVec 32 := Scalar.shrsi v94 c3_i32_35
  let c8191_i32_36 : BitVec 32 := 8191#32
  let v96 : BitVec 32 := Scalar.andi v95 c8191_i32_36
  let v104 : Index := Scalar.indexCast v96
  let c0_40 : Index := 0#32
  ![v104.toNat, 0]

def k0_chk261 (i : grid0.Coords) (v13 : BitVec 32) (v94 : BitVec 32) : Prop :=
  (∀ (k0_h5 : k0_cond5 i v13 = 1#1), 8 ∣ (k0_mult258 v94).toNat) ∧
  (∀ (k0_h5 : k0_cond5 i v13 = 1#1), ∀ a, (k0_off538 v94) a + S8x128.size a ≤ S65536x128.size a) ∧
  (∀ (k0_h5 : k0_cond5 i v13 = 1#1), ∀ a, (k0_off539 v94) a + S1x128.size a ≤ S8192x128.size a)
theorem k0_mult258_dvd : ∀ (i : grid0.Coords) (v13 : BitVec 32) (v94 : BitVec 32) (k0_hw261 : k0_chk261 i v13 v94), ∀ (k0_h5 : k0_cond5 i v13 = 1#1), 8 ∣ (k0_mult258 v94).toNat := fun i v13 v94 k0_hw261 k0_h5 => k0_hw261.1 k0_h5
theorem k0_off538_inb : ∀ (i : grid0.Coords) (v13 : BitVec 32) (v94 : BitVec 32) (k0_hw261 : k0_chk261 i v13 v94), ∀ (k0_h5 : k0_cond5 i v13 = 1#1), ∀ a, (k0_off538 v94) a + S8x128.size a ≤ S65536x128.size a := fun i v13 v94 k0_hw261 k0_h5 => k0_hw261.2.1 k0_h5
theorem k0_off539_inb : ∀ (i : grid0.Coords) (v13 : BitVec 32) (v94 : BitVec 32) (k0_hw261 : k0_chk261 i v13 v94), ∀ (k0_h5 : k0_cond5 i v13 = 1#1), ∀ a, (k0_off539 v94) a + S1x128.size a ≤ S8192x128.size a := fun i v13 v94 k0_hw261 k0_h5 => k0_hw261.2.2 k0_h5

def k0_off540 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c2_i32_42 : BitVec 32 := 2#32
  let v109 : BitVec 32 := Scalar.addi v74 c2_i32_42
  let v110 : Index := Scalar.indexCast v109
  ![v110.toNat]
def k0_mult259 (v111 : BitVec 32) : BitVec 32 :=
  let c3_i32_43 : BitVec 32 := 3#32
  let v112 : BitVec 32 := Scalar.shrsi v111 c3_i32_43
  let c8191_i32_44 : BitVec 32 := 8191#32
  let v113 : BitVec 32 := Scalar.andi v112 c8191_i32_44
  let c8_i32_45 : BitVec 32 := 8#32
  let v114 : BitVec 32 := Scalar.muli v113 c8_i32_45
  v114

def k0_off541 (v111 : BitVec 32) : Fin 2 → Nat :=
  let c3_i32_43 : BitVec 32 := 3#32
  let v112 : BitVec 32 := Scalar.shrsi v111 c3_i32_43
  let c8191_i32_44 : BitVec 32 := 8191#32
  let v113 : BitVec 32 := Scalar.andi v112 c8191_i32_44
  let c8_i32_45 : BitVec 32 := 8#32
  let v114 : BitVec 32 := Scalar.muli v113 c8_i32_45
  let v115 : BitVec 32 := v114
  let v116 : Index := Scalar.indexCast v115
  let c0_46 : Index := 0#32
  ![v116.toNat, 0]
def k0_off542 (v111 : BitVec 32) : Fin 2 → Nat :=
  let c3_i32_43 : BitVec 32 := 3#32
  let v112 : BitVec 32 := Scalar.shrsi v111 c3_i32_43
  let c8191_i32_44 : BitVec 32 := 8191#32
  let v113 : BitVec 32 := Scalar.andi v112 c8191_i32_44
  let v121 : Index := Scalar.indexCast v113
  let c0_48 : Index := 0#32
  ![v121.toNat, 0]

def k0_chk262 (i : grid0.Coords) (v13 : BitVec 32) (v111 : BitVec 32) : Prop :=
  (∀ (k0_h5 : k0_cond5 i v13 = 1#1), 8 ∣ (k0_mult259 v111).toNat) ∧
  (∀ (k0_h5 : k0_cond5 i v13 = 1#1), ∀ a, (k0_off541 v111) a + S8x128.size a ≤ S65536x128.size a) ∧
  (∀ (k0_h5 : k0_cond5 i v13 = 1#1), ∀ a, (k0_off542 v111) a + S1x128.size a ≤ S8192x128.size a)
theorem k0_mult259_dvd : ∀ (i : grid0.Coords) (v13 : BitVec 32) (v111 : BitVec 32) (k0_hw262 : k0_chk262 i v13 v111), ∀ (k0_h5 : k0_cond5 i v13 = 1#1), 8 ∣ (k0_mult259 v111).toNat := fun i v13 v111 k0_hw262 k0_h5 => k0_hw262.1 k0_h5
theorem k0_off541_inb : ∀ (i : grid0.Coords) (v13 : BitVec 32) (v111 : BitVec 32) (k0_hw262 : k0_chk262 i v13 v111), ∀ (k0_h5 : k0_cond5 i v13 = 1#1), ∀ a, (k0_off541 v111) a + S8x128.size a ≤ S65536x128.size a := fun i v13 v111 k0_hw262 k0_h5 => k0_hw262.2.1 k0_h5
theorem k0_off542_inb : ∀ (i : grid0.Coords) (v13 : BitVec 32) (v111 : BitVec 32) (k0_hw262 : k0_chk262 i v13 v111), ∀ (k0_h5 : k0_cond5 i v13 = 1#1), ∀ a, (k0_off542 v111) a + S1x128.size a ≤ S8192x128.size a := fun i v13 v111 k0_hw262 k0_h5 => k0_hw262.2.2 k0_h5

def k0_off543 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c3_i32_50 : BitVec 32 := 3#32
  let v126 : BitVec 32 := Scalar.addi v74 c3_i32_50
  let v127 : Index := Scalar.indexCast v126
  ![v127.toNat]
def k0_mult260 (v128 : BitVec 32) : BitVec 32 :=
  let c3_i32_51 : BitVec 32 := 3#32
  let v129 : BitVec 32 := Scalar.shrsi v128 c3_i32_51
  let c8191_i32_52 : BitVec 32 := 8191#32
  let v130 : BitVec 32 := Scalar.andi v129 c8191_i32_52
  let c8_i32_53 : BitVec 32 := 8#32
  let v131 : BitVec 32 := Scalar.muli v130 c8_i32_53
  v131

def k0_off544 (v128 : BitVec 32) : Fin 2 → Nat :=
  let c3_i32_51 : BitVec 32 := 3#32
  let v129 : BitVec 32 := Scalar.shrsi v128 c3_i32_51
  let c8191_i32_52 : BitVec 32 := 8191#32
  let v130 : BitVec 32 := Scalar.andi v129 c8191_i32_52
  let c8_i32_53 : BitVec 32 := 8#32
  let v131 : BitVec 32 := Scalar.muli v130 c8_i32_53
  let v132 : BitVec 32 := v131
  let v133 : Index := Scalar.indexCast v132
  let c0_54 : Index := 0#32
  ![v133.toNat, 0]
def k0_off545 (v128 : BitVec 32) : Fin 2 → Nat :=
  let c3_i32_51 : BitVec 32 := 3#32
  let v129 : BitVec 32 := Scalar.shrsi v128 c3_i32_51
  let c8191_i32_52 : BitVec 32 := 8191#32
  let v130 : BitVec 32 := Scalar.andi v129 c8191_i32_52
  let v138 : Index := Scalar.indexCast v130
  let c0_56 : Index := 0#32
  ![v138.toNat, 0]

def k0_chk263 (i : grid0.Coords) (v13 : BitVec 32) (v128 : BitVec 32) : Prop :=
  (∀ (k0_h5 : k0_cond5 i v13 = 1#1), 8 ∣ (k0_mult260 v128).toNat) ∧
  (∀ (k0_h5 : k0_cond5 i v13 = 1#1), ∀ a, (k0_off544 v128) a + S8x128.size a ≤ S65536x128.size a) ∧
  (∀ (k0_h5 : k0_cond5 i v13 = 1#1), ∀ a, (k0_off545 v128) a + S1x128.size a ≤ S8192x128.size a)
theorem k0_mult260_dvd : ∀ (i : grid0.Coords) (v13 : BitVec 32) (v128 : BitVec 32) (k0_hw263 : k0_chk263 i v13 v128), ∀ (k0_h5 : k0_cond5 i v13 = 1#1), 8 ∣ (k0_mult260 v128).toNat := fun i v13 v128 k0_hw263 k0_h5 => k0_hw263.1 k0_h5
theorem k0_off544_inb : ∀ (i : grid0.Coords) (v13 : BitVec 32) (v128 : BitVec 32) (k0_hw263 : k0_chk263 i v13 v128), ∀ (k0_h5 : k0_cond5 i v13 = 1#1), ∀ a, (k0_off544 v128) a + S8x128.size a ≤ S65536x128.size a := fun i v13 v128 k0_hw263 k0_h5 => k0_hw263.2.1 k0_h5
theorem k0_off545_inb : ∀ (i : grid0.Coords) (v13 : BitVec 32) (v128 : BitVec 32) (k0_hw263 : k0_chk263 i v13 v128), ∀ (k0_h5 : k0_cond5 i v13 = 1#1), ∀ a, (k0_off545 v128) a + S1x128.size a ≤ S8192x128.size a := fun i v13 v128 k0_hw263 k0_h5 => k0_hw263.2.2 k0_h5

def k0_off546 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c4_i32 : BitVec 32 := 4#32
  let v143 : BitVec 32 := Scalar.addi v74 c4_i32
  let v144 : Index := Scalar.indexCast v143
  ![v144.toNat]
def k0_mult261 (v145 : BitVec 32) : BitVec 32 :=
  let c3_i32_58 : BitVec 32 := 3#32
  let v146 : BitVec 32 := Scalar.shrsi v145 c3_i32_58
  let c8191_i32_59 : BitVec 32 := 8191#32
  let v147 : BitVec 32 := Scalar.andi v146 c8191_i32_59
  let c8_i32_60 : BitVec 32 := 8#32
  let v148 : BitVec 32 := Scalar.muli v147 c8_i32_60
  v148

def k0_off547 (v145 : BitVec 32) : Fin 2 → Nat :=
  let c3_i32_58 : BitVec 32 := 3#32
  let v146 : BitVec 32 := Scalar.shrsi v145 c3_i32_58
  let c8191_i32_59 : BitVec 32 := 8191#32
  let v147 : BitVec 32 := Scalar.andi v146 c8191_i32_59
  let c8_i32_60 : BitVec 32 := 8#32
  let v148 : BitVec 32 := Scalar.muli v147 c8_i32_60
  let v149 : BitVec 32 := v148
  let v150 : Index := Scalar.indexCast v149
  let c0_61 : Index := 0#32
  ![v150.toNat, 0]
def k0_off548 (v145 : BitVec 32) : Fin 2 → Nat :=
  let c3_i32_58 : BitVec 32 := 3#32
  let v146 : BitVec 32 := Scalar.shrsi v145 c3_i32_58
  let c8191_i32_59 : BitVec 32 := 8191#32
  let v147 : BitVec 32 := Scalar.andi v146 c8191_i32_59
  let v155 : Index := Scalar.indexCast v147
  let c0_63 : Index := 0#32
  ![v155.toNat, 0]

def k0_chk264 (i : grid0.Coords) (v13 : BitVec 32) (v145 : BitVec 32) : Prop :=
  (∀ (k0_h5 : k0_cond5 i v13 = 1#1), 8 ∣ (k0_mult261 v145).toNat) ∧
  (∀ (k0_h5 : k0_cond5 i v13 = 1#1), ∀ a, (k0_off547 v145) a + S8x128.size a ≤ S65536x128.size a) ∧
  (∀ (k0_h5 : k0_cond5 i v13 = 1#1), ∀ a, (k0_off548 v145) a + S1x128.size a ≤ S8192x128.size a)
theorem k0_mult261_dvd : ∀ (i : grid0.Coords) (v13 : BitVec 32) (v145 : BitVec 32) (k0_hw264 : k0_chk264 i v13 v145), ∀ (k0_h5 : k0_cond5 i v13 = 1#1), 8 ∣ (k0_mult261 v145).toNat := fun i v13 v145 k0_hw264 k0_h5 => k0_hw264.1 k0_h5
theorem k0_off547_inb : ∀ (i : grid0.Coords) (v13 : BitVec 32) (v145 : BitVec 32) (k0_hw264 : k0_chk264 i v13 v145), ∀ (k0_h5 : k0_cond5 i v13 = 1#1), ∀ a, (k0_off547 v145) a + S8x128.size a ≤ S65536x128.size a := fun i v13 v145 k0_hw264 k0_h5 => k0_hw264.2.1 k0_h5
theorem k0_off548_inb : ∀ (i : grid0.Coords) (v13 : BitVec 32) (v145 : BitVec 32) (k0_hw264 : k0_chk264 i v13 v145), ∀ (k0_h5 : k0_cond5 i v13 = 1#1), ∀ a, (k0_off548 v145) a + S1x128.size a ≤ S8192x128.size a := fun i v13 v145 k0_hw264 k0_h5 => k0_hw264.2.2 k0_h5

def k0_off549 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c5_i32 : BitVec 32 := 5#32
  let v160 : BitVec 32 := Scalar.addi v74 c5_i32
  let v161 : Index := Scalar.indexCast v160
  ![v161.toNat]
def k0_mult262 (v162 : BitVec 32) : BitVec 32 :=
  let c3_i32_65 : BitVec 32 := 3#32
  let v163 : BitVec 32 := Scalar.shrsi v162 c3_i32_65
  let c8191_i32_66 : BitVec 32 := 8191#32
  let v164 : BitVec 32 := Scalar.andi v163 c8191_i32_66
  let c8_i32_67 : BitVec 32 := 8#32
  let v165 : BitVec 32 := Scalar.muli v164 c8_i32_67
  v165

def k0_off550 (v162 : BitVec 32) : Fin 2 → Nat :=
  let c3_i32_65 : BitVec 32 := 3#32
  let v163 : BitVec 32 := Scalar.shrsi v162 c3_i32_65
  let c8191_i32_66 : BitVec 32 := 8191#32
  let v164 : BitVec 32 := Scalar.andi v163 c8191_i32_66
  let c8_i32_67 : BitVec 32 := 8#32
  let v165 : BitVec 32 := Scalar.muli v164 c8_i32_67
  let v166 : BitVec 32 := v165
  let v167 : Index := Scalar.indexCast v166
  let c0_68 : Index := 0#32
  ![v167.toNat, 0]
def k0_off551 (v162 : BitVec 32) : Fin 2 → Nat :=
  let c3_i32_65 : BitVec 32 := 3#32
  let v163 : BitVec 32 := Scalar.shrsi v162 c3_i32_65
  let c8191_i32_66 : BitVec 32 := 8191#32
  let v164 : BitVec 32 := Scalar.andi v163 c8191_i32_66
  let v172 : Index := Scalar.indexCast v164
  let c0_70 : Index := 0#32
  ![v172.toNat, 0]

def k0_chk265 (i : grid0.Coords) (v13 : BitVec 32) (v162 : BitVec 32) : Prop :=
  (∀ (k0_h5 : k0_cond5 i v13 = 1#1), 8 ∣ (k0_mult262 v162).toNat) ∧
  (∀ (k0_h5 : k0_cond5 i v13 = 1#1), ∀ a, (k0_off550 v162) a + S8x128.size a ≤ S65536x128.size a) ∧
  (∀ (k0_h5 : k0_cond5 i v13 = 1#1), ∀ a, (k0_off551 v162) a + S1x128.size a ≤ S8192x128.size a)
theorem k0_mult262_dvd : ∀ (i : grid0.Coords) (v13 : BitVec 32) (v162 : BitVec 32) (k0_hw265 : k0_chk265 i v13 v162), ∀ (k0_h5 : k0_cond5 i v13 = 1#1), 8 ∣ (k0_mult262 v162).toNat := fun i v13 v162 k0_hw265 k0_h5 => k0_hw265.1 k0_h5
theorem k0_off550_inb : ∀ (i : grid0.Coords) (v13 : BitVec 32) (v162 : BitVec 32) (k0_hw265 : k0_chk265 i v13 v162), ∀ (k0_h5 : k0_cond5 i v13 = 1#1), ∀ a, (k0_off550 v162) a + S8x128.size a ≤ S65536x128.size a := fun i v13 v162 k0_hw265 k0_h5 => k0_hw265.2.1 k0_h5
theorem k0_off551_inb : ∀ (i : grid0.Coords) (v13 : BitVec 32) (v162 : BitVec 32) (k0_hw265 : k0_chk265 i v13 v162), ∀ (k0_h5 : k0_cond5 i v13 = 1#1), ∀ a, (k0_off551 v162) a + S1x128.size a ≤ S8192x128.size a := fun i v13 v162 k0_hw265 k0_h5 => k0_hw265.2.2 k0_h5

def k0_off552 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c6_i32 : BitVec 32 := 6#32
  let v177 : BitVec 32 := Scalar.addi v74 c6_i32
  let v178 : Index := Scalar.indexCast v177
  ![v178.toNat]
def k0_mult263 (v179 : BitVec 32) : BitVec 32 :=
  let c3_i32_72 : BitVec 32 := 3#32
  let v180 : BitVec 32 := Scalar.shrsi v179 c3_i32_72
  let c8191_i32_73 : BitVec 32 := 8191#32
  let v181 : BitVec 32 := Scalar.andi v180 c8191_i32_73
  let c8_i32_74 : BitVec 32 := 8#32
  let v182 : BitVec 32 := Scalar.muli v181 c8_i32_74
  v182

def k0_off553 (v179 : BitVec 32) : Fin 2 → Nat :=
  let c3_i32_72 : BitVec 32 := 3#32
  let v180 : BitVec 32 := Scalar.shrsi v179 c3_i32_72
  let c8191_i32_73 : BitVec 32 := 8191#32
  let v181 : BitVec 32 := Scalar.andi v180 c8191_i32_73
  let c8_i32_74 : BitVec 32 := 8#32
  let v182 : BitVec 32 := Scalar.muli v181 c8_i32_74
  let v183 : BitVec 32 := v182
  let v184 : Index := Scalar.indexCast v183
  let c0_75 : Index := 0#32
  ![v184.toNat, 0]
def k0_off554 (v179 : BitVec 32) : Fin 2 → Nat :=
  let c3_i32_72 : BitVec 32 := 3#32
  let v180 : BitVec 32 := Scalar.shrsi v179 c3_i32_72
  let c8191_i32_73 : BitVec 32 := 8191#32
  let v181 : BitVec 32 := Scalar.andi v180 c8191_i32_73
  let v189 : Index := Scalar.indexCast v181
  let c0_77 : Index := 0#32
  ![v189.toNat, 0]

def k0_chk266 (i : grid0.Coords) (v13 : BitVec 32) (v179 : BitVec 32) : Prop :=
  (∀ (k0_h5 : k0_cond5 i v13 = 1#1), 8 ∣ (k0_mult263 v179).toNat) ∧
  (∀ (k0_h5 : k0_cond5 i v13 = 1#1), ∀ a, (k0_off553 v179) a + S8x128.size a ≤ S65536x128.size a) ∧
  (∀ (k0_h5 : k0_cond5 i v13 = 1#1), ∀ a, (k0_off554 v179) a + S1x128.size a ≤ S8192x128.size a)
theorem k0_mult263_dvd : ∀ (i : grid0.Coords) (v13 : BitVec 32) (v179 : BitVec 32) (k0_hw266 : k0_chk266 i v13 v179), ∀ (k0_h5 : k0_cond5 i v13 = 1#1), 8 ∣ (k0_mult263 v179).toNat := fun i v13 v179 k0_hw266 k0_h5 => k0_hw266.1 k0_h5
theorem k0_off553_inb : ∀ (i : grid0.Coords) (v13 : BitVec 32) (v179 : BitVec 32) (k0_hw266 : k0_chk266 i v13 v179), ∀ (k0_h5 : k0_cond5 i v13 = 1#1), ∀ a, (k0_off553 v179) a + S8x128.size a ≤ S65536x128.size a := fun i v13 v179 k0_hw266 k0_h5 => k0_hw266.2.1 k0_h5
theorem k0_off554_inb : ∀ (i : grid0.Coords) (v13 : BitVec 32) (v179 : BitVec 32) (k0_hw266 : k0_chk266 i v13 v179), ∀ (k0_h5 : k0_cond5 i v13 = 1#1), ∀ a, (k0_off554 v179) a + S1x128.size a ≤ S8192x128.size a := fun i v13 v179 k0_hw266 k0_h5 => k0_hw266.2.2 k0_h5

def k0_off555 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c7_i32 : BitVec 32 := 7#32
  let v194 : BitVec 32 := Scalar.addi v74 c7_i32
  let v195 : Index := Scalar.indexCast v194
  ![v195.toNat]
def k0_mult264 (v196 : BitVec 32) : BitVec 32 :=
  let c3_i32_79 : BitVec 32 := 3#32
  let v197 : BitVec 32 := Scalar.shrsi v196 c3_i32_79
  let c8191_i32_80 : BitVec 32 := 8191#32
  let v198 : BitVec 32 := Scalar.andi v197 c8191_i32_80
  let c8_i32_81 : BitVec 32 := 8#32
  let v199 : BitVec 32 := Scalar.muli v198 c8_i32_81
  v199

def k0_off556 (v196 : BitVec 32) : Fin 2 → Nat :=
  let c3_i32_79 : BitVec 32 := 3#32
  let v197 : BitVec 32 := Scalar.shrsi v196 c3_i32_79
  let c8191_i32_80 : BitVec 32 := 8191#32
  let v198 : BitVec 32 := Scalar.andi v197 c8191_i32_80
  let c8_i32_81 : BitVec 32 := 8#32
  let v199 : BitVec 32 := Scalar.muli v198 c8_i32_81
  let v200 : BitVec 32 := v199
  let v201 : Index := Scalar.indexCast v200
  let c0_82 : Index := 0#32
  ![v201.toNat, 0]
def k0_off557 (v196 : BitVec 32) : Fin 2 → Nat :=
  let c3_i32_79 : BitVec 32 := 3#32
  let v197 : BitVec 32 := Scalar.shrsi v196 c3_i32_79
  let c8191_i32_80 : BitVec 32 := 8191#32
  let v198 : BitVec 32 := Scalar.andi v197 c8191_i32_80
  let v206 : Index := Scalar.indexCast v198
  let c0_84 : Index := 0#32
  ![v206.toNat, 0]

def k0_chk267 (i : grid0.Coords) (v13 : BitVec 32) (v196 : BitVec 32) : Prop :=
  (∀ (k0_h5 : k0_cond5 i v13 = 1#1), 8 ∣ (k0_mult264 v196).toNat) ∧
  (∀ (k0_h5 : k0_cond5 i v13 = 1#1), ∀ a, (k0_off556 v196) a + S8x128.size a ≤ S65536x128.size a) ∧
  (∀ (k0_h5 : k0_cond5 i v13 = 1#1), ∀ a, (k0_off557 v196) a + S1x128.size a ≤ S8192x128.size a)
theorem k0_mult264_dvd : ∀ (i : grid0.Coords) (v13 : BitVec 32) (v196 : BitVec 32) (k0_hw267 : k0_chk267 i v13 v196), ∀ (k0_h5 : k0_cond5 i v13 = 1#1), 8 ∣ (k0_mult264 v196).toNat := fun i v13 v196 k0_hw267 k0_h5 => k0_hw267.1 k0_h5
theorem k0_off556_inb : ∀ (i : grid0.Coords) (v13 : BitVec 32) (v196 : BitVec 32) (k0_hw267 : k0_chk267 i v13 v196), ∀ (k0_h5 : k0_cond5 i v13 = 1#1), ∀ a, (k0_off556 v196) a + S8x128.size a ≤ S65536x128.size a := fun i v13 v196 k0_hw267 k0_h5 => k0_hw267.2.1 k0_h5
theorem k0_off557_inb : ∀ (i : grid0.Coords) (v13 : BitVec 32) (v196 : BitVec 32) (k0_hw267 : k0_chk267 i v13 v196), ∀ (k0_h5 : k0_cond5 i v13 = 1#1), ∀ a, (k0_off557 v196) a + S1x128.size a ≤ S8192x128.size a := fun i v13 v196 k0_hw267 k0_h5 => k0_hw267.2.2 k0_h5

def k0_off558 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c8_i32_86 : BitVec 32 := 8#32
  let v211 : BitVec 32 := Scalar.addi v74 c8_i32_86
  let v212 : Index := Scalar.indexCast v211
  ![v212.toNat]
def k0_mult265 (v213 : BitVec 32) : BitVec 32 :=
  let c3_i32_87 : BitVec 32 := 3#32
  let v214 : BitVec 32 := Scalar.shrsi v213 c3_i32_87
  let c8191_i32_88 : BitVec 32 := 8191#32
  let v215 : BitVec 32 := Scalar.andi v214 c8191_i32_88
  let c8_i32_89 : BitVec 32 := 8#32
  let v216 : BitVec 32 := Scalar.muli v215 c8_i32_89
  v216

def k0_off559 (v213 : BitVec 32) : Fin 2 → Nat :=
  let c3_i32_87 : BitVec 32 := 3#32
  let v214 : BitVec 32 := Scalar.shrsi v213 c3_i32_87
  let c8191_i32_88 : BitVec 32 := 8191#32
  let v215 : BitVec 32 := Scalar.andi v214 c8191_i32_88
  let c8_i32_89 : BitVec 32 := 8#32
  let v216 : BitVec 32 := Scalar.muli v215 c8_i32_89
  let v217 : BitVec 32 := v216
  let v218 : Index := Scalar.indexCast v217
  let c0_90 : Index := 0#32
  ![v218.toNat, 0]
def k0_off560 (v213 : BitVec 32) : Fin 2 → Nat :=
  let c3_i32_87 : BitVec 32 := 3#32
  let v214 : BitVec 32 := Scalar.shrsi v213 c3_i32_87
  let c8191_i32_88 : BitVec 32 := 8191#32
  let v215 : BitVec 32 := Scalar.andi v214 c8191_i32_88
  let v223 : Index := Scalar.indexCast v215
  let c0_92 : Index := 0#32
  ![v223.toNat, 0]

def k0_chk268 (i : grid0.Coords) (v13 : BitVec 32) (v213 : BitVec 32) : Prop :=
  (∀ (k0_h5 : k0_cond5 i v13 = 1#1), 8 ∣ (k0_mult265 v213).toNat) ∧
  (∀ (k0_h5 : k0_cond5 i v13 = 1#1), ∀ a, (k0_off559 v213) a + S8x128.size a ≤ S65536x128.size a) ∧
  (∀ (k0_h5 : k0_cond5 i v13 = 1#1), ∀ a, (k0_off560 v213) a + S1x128.size a ≤ S8192x128.size a)
theorem k0_mult265_dvd : ∀ (i : grid0.Coords) (v13 : BitVec 32) (v213 : BitVec 32) (k0_hw268 : k0_chk268 i v13 v213), ∀ (k0_h5 : k0_cond5 i v13 = 1#1), 8 ∣ (k0_mult265 v213).toNat := fun i v13 v213 k0_hw268 k0_h5 => k0_hw268.1 k0_h5
theorem k0_off559_inb : ∀ (i : grid0.Coords) (v13 : BitVec 32) (v213 : BitVec 32) (k0_hw268 : k0_chk268 i v13 v213), ∀ (k0_h5 : k0_cond5 i v13 = 1#1), ∀ a, (k0_off559 v213) a + S8x128.size a ≤ S65536x128.size a := fun i v13 v213 k0_hw268 k0_h5 => k0_hw268.2.1 k0_h5
theorem k0_off560_inb : ∀ (i : grid0.Coords) (v13 : BitVec 32) (v213 : BitVec 32) (k0_hw268 : k0_chk268 i v13 v213), ∀ (k0_h5 : k0_cond5 i v13 = 1#1), ∀ a, (k0_off560 v213) a + S1x128.size a ≤ S8192x128.size a := fun i v13 v213 k0_hw268 k0_h5 => k0_hw268.2.2 k0_h5

def k0_off561 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c9_i32 : BitVec 32 := 9#32
  let v228 : BitVec 32 := Scalar.addi v74 c9_i32
  let v229 : Index := Scalar.indexCast v228
  ![v229.toNat]
def k0_mult266 (v230 : BitVec 32) : BitVec 32 :=
  let c3_i32_95 : BitVec 32 := 3#32
  let v231 : BitVec 32 := Scalar.shrsi v230 c3_i32_95
  let c8191_i32_96 : BitVec 32 := 8191#32
  let v232 : BitVec 32 := Scalar.andi v231 c8191_i32_96
  let c8_i32_97 : BitVec 32 := 8#32
  let v233 : BitVec 32 := Scalar.muli v232 c8_i32_97
  v233

def k0_off562 (v230 : BitVec 32) : Fin 2 → Nat :=
  let c3_i32_95 : BitVec 32 := 3#32
  let v231 : BitVec 32 := Scalar.shrsi v230 c3_i32_95
  let c8191_i32_96 : BitVec 32 := 8191#32
  let v232 : BitVec 32 := Scalar.andi v231 c8191_i32_96
  let c8_i32_97 : BitVec 32 := 8#32
  let v233 : BitVec 32 := Scalar.muli v232 c8_i32_97
  let v234 : BitVec 32 := v233
  let v235 : Index := Scalar.indexCast v234
  let c0_98 : Index := 0#32
  ![v235.toNat, 0]
def k0_off563 (v230 : BitVec 32) : Fin 2 → Nat :=
  let c3_i32_95 : BitVec 32 := 3#32
  let v231 : BitVec 32 := Scalar.shrsi v230 c3_i32_95
  let c8191_i32_96 : BitVec 32 := 8191#32
  let v232 : BitVec 32 := Scalar.andi v231 c8191_i32_96
  let v240 : Index := Scalar.indexCast v232
  let c0_100 : Index := 0#32
  ![v240.toNat, 0]

def k0_chk269 (i : grid0.Coords) (v13 : BitVec 32) (v230 : BitVec 32) : Prop :=
  (∀ (k0_h5 : k0_cond5 i v13 = 1#1), 8 ∣ (k0_mult266 v230).toNat) ∧
  (∀ (k0_h5 : k0_cond5 i v13 = 1#1), ∀ a, (k0_off562 v230) a + S8x128.size a ≤ S65536x128.size a) ∧
  (∀ (k0_h5 : k0_cond5 i v13 = 1#1), ∀ a, (k0_off563 v230) a + S1x128.size a ≤ S8192x128.size a)
theorem k0_mult266_dvd : ∀ (i : grid0.Coords) (v13 : BitVec 32) (v230 : BitVec 32) (k0_hw269 : k0_chk269 i v13 v230), ∀ (k0_h5 : k0_cond5 i v13 = 1#1), 8 ∣ (k0_mult266 v230).toNat := fun i v13 v230 k0_hw269 k0_h5 => k0_hw269.1 k0_h5
theorem k0_off562_inb : ∀ (i : grid0.Coords) (v13 : BitVec 32) (v230 : BitVec 32) (k0_hw269 : k0_chk269 i v13 v230), ∀ (k0_h5 : k0_cond5 i v13 = 1#1), ∀ a, (k0_off562 v230) a + S8x128.size a ≤ S65536x128.size a := fun i v13 v230 k0_hw269 k0_h5 => k0_hw269.2.1 k0_h5
theorem k0_off563_inb : ∀ (i : grid0.Coords) (v13 : BitVec 32) (v230 : BitVec 32) (k0_hw269 : k0_chk269 i v13 v230), ∀ (k0_h5 : k0_cond5 i v13 = 1#1), ∀ a, (k0_off563 v230) a + S1x128.size a ≤ S8192x128.size a := fun i v13 v230 k0_hw269 k0_h5 => k0_hw269.2.2 k0_h5

def k0_off564 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c10_i32 : BitVec 32 := 10#32
  let v245 : BitVec 32 := Scalar.addi v74 c10_i32
  let v246 : Index := Scalar.indexCast v245
  ![v246.toNat]
def k0_mult267 (v247 : BitVec 32) : BitVec 32 :=
  let c3_i32_102 : BitVec 32 := 3#32
  let v248 : BitVec 32 := Scalar.shrsi v247 c3_i32_102
  let c8191_i32_103 : BitVec 32 := 8191#32
  let v249 : BitVec 32 := Scalar.andi v248 c8191_i32_103
  let c8_i32_104 : BitVec 32 := 8#32
  let v250 : BitVec 32 := Scalar.muli v249 c8_i32_104
  v250

def k0_off565 (v247 : BitVec 32) : Fin 2 → Nat :=
  let c3_i32_102 : BitVec 32 := 3#32
  let v248 : BitVec 32 := Scalar.shrsi v247 c3_i32_102
  let c8191_i32_103 : BitVec 32 := 8191#32
  let v249 : BitVec 32 := Scalar.andi v248 c8191_i32_103
  let c8_i32_104 : BitVec 32 := 8#32
  let v250 : BitVec 32 := Scalar.muli v249 c8_i32_104
  let v251 : BitVec 32 := v250
  let v252 : Index := Scalar.indexCast v251
  let c0_105 : Index := 0#32
  ![v252.toNat, 0]
def k0_off566 (v247 : BitVec 32) : Fin 2 → Nat :=
  let c3_i32_102 : BitVec 32 := 3#32
  let v248 : BitVec 32 := Scalar.shrsi v247 c3_i32_102
  let c8191_i32_103 : BitVec 32 := 8191#32
  let v249 : BitVec 32 := Scalar.andi v248 c8191_i32_103
  let v257 : Index := Scalar.indexCast v249
  let c0_107 : Index := 0#32
  ![v257.toNat, 0]

def k0_chk270 (i : grid0.Coords) (v13 : BitVec 32) (v247 : BitVec 32) : Prop :=
  (∀ (k0_h5 : k0_cond5 i v13 = 1#1), 8 ∣ (k0_mult267 v247).toNat) ∧
  (∀ (k0_h5 : k0_cond5 i v13 = 1#1), ∀ a, (k0_off565 v247) a + S8x128.size a ≤ S65536x128.size a) ∧
  (∀ (k0_h5 : k0_cond5 i v13 = 1#1), ∀ a, (k0_off566 v247) a + S1x128.size a ≤ S8192x128.size a)
theorem k0_mult267_dvd : ∀ (i : grid0.Coords) (v13 : BitVec 32) (v247 : BitVec 32) (k0_hw270 : k0_chk270 i v13 v247), ∀ (k0_h5 : k0_cond5 i v13 = 1#1), 8 ∣ (k0_mult267 v247).toNat := fun i v13 v247 k0_hw270 k0_h5 => k0_hw270.1 k0_h5
theorem k0_off565_inb : ∀ (i : grid0.Coords) (v13 : BitVec 32) (v247 : BitVec 32) (k0_hw270 : k0_chk270 i v13 v247), ∀ (k0_h5 : k0_cond5 i v13 = 1#1), ∀ a, (k0_off565 v247) a + S8x128.size a ≤ S65536x128.size a := fun i v13 v247 k0_hw270 k0_h5 => k0_hw270.2.1 k0_h5
theorem k0_off566_inb : ∀ (i : grid0.Coords) (v13 : BitVec 32) (v247 : BitVec 32) (k0_hw270 : k0_chk270 i v13 v247), ∀ (k0_h5 : k0_cond5 i v13 = 1#1), ∀ a, (k0_off566 v247) a + S1x128.size a ≤ S8192x128.size a := fun i v13 v247 k0_hw270 k0_h5 => k0_hw270.2.2 k0_h5

def k0_off567 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c11_i32 : BitVec 32 := 11#32
  let v262 : BitVec 32 := Scalar.addi v74 c11_i32
  let v263 : Index := Scalar.indexCast v262
  ![v263.toNat]
def k0_mult268 (v264 : BitVec 32) : BitVec 32 :=
  let c3_i32_109 : BitVec 32 := 3#32
  let v265 : BitVec 32 := Scalar.shrsi v264 c3_i32_109
  let c8191_i32_110 : BitVec 32 := 8191#32
  let v266 : BitVec 32 := Scalar.andi v265 c8191_i32_110
  let c8_i32_111 : BitVec 32 := 8#32
  let v267 : BitVec 32 := Scalar.muli v266 c8_i32_111
  v267

def k0_off568 (v264 : BitVec 32) : Fin 2 → Nat :=
  let c3_i32_109 : BitVec 32 := 3#32
  let v265 : BitVec 32 := Scalar.shrsi v264 c3_i32_109
  let c8191_i32_110 : BitVec 32 := 8191#32
  let v266 : BitVec 32 := Scalar.andi v265 c8191_i32_110
  let c8_i32_111 : BitVec 32 := 8#32
  let v267 : BitVec 32 := Scalar.muli v266 c8_i32_111
  let v268 : BitVec 32 := v267
  let v269 : Index := Scalar.indexCast v268
  let c0_112 : Index := 0#32
  ![v269.toNat, 0]
def k0_off569 (v264 : BitVec 32) : Fin 2 → Nat :=
  let c3_i32_109 : BitVec 32 := 3#32
  let v265 : BitVec 32 := Scalar.shrsi v264 c3_i32_109
  let c8191_i32_110 : BitVec 32 := 8191#32
  let v266 : BitVec 32 := Scalar.andi v265 c8191_i32_110
  let v274 : Index := Scalar.indexCast v266
  let c0_114 : Index := 0#32
  ![v274.toNat, 0]

def k0_chk271 (i : grid0.Coords) (v13 : BitVec 32) (v264 : BitVec 32) : Prop :=
  (∀ (k0_h5 : k0_cond5 i v13 = 1#1), 8 ∣ (k0_mult268 v264).toNat) ∧
  (∀ (k0_h5 : k0_cond5 i v13 = 1#1), ∀ a, (k0_off568 v264) a + S8x128.size a ≤ S65536x128.size a) ∧
  (∀ (k0_h5 : k0_cond5 i v13 = 1#1), ∀ a, (k0_off569 v264) a + S1x128.size a ≤ S8192x128.size a)
theorem k0_mult268_dvd : ∀ (i : grid0.Coords) (v13 : BitVec 32) (v264 : BitVec 32) (k0_hw271 : k0_chk271 i v13 v264), ∀ (k0_h5 : k0_cond5 i v13 = 1#1), 8 ∣ (k0_mult268 v264).toNat := fun i v13 v264 k0_hw271 k0_h5 => k0_hw271.1 k0_h5
theorem k0_off568_inb : ∀ (i : grid0.Coords) (v13 : BitVec 32) (v264 : BitVec 32) (k0_hw271 : k0_chk271 i v13 v264), ∀ (k0_h5 : k0_cond5 i v13 = 1#1), ∀ a, (k0_off568 v264) a + S8x128.size a ≤ S65536x128.size a := fun i v13 v264 k0_hw271 k0_h5 => k0_hw271.2.1 k0_h5
theorem k0_off569_inb : ∀ (i : grid0.Coords) (v13 : BitVec 32) (v264 : BitVec 32) (k0_hw271 : k0_chk271 i v13 v264), ∀ (k0_h5 : k0_cond5 i v13 = 1#1), ∀ a, (k0_off569 v264) a + S1x128.size a ≤ S8192x128.size a := fun i v13 v264 k0_hw271 k0_h5 => k0_hw271.2.2 k0_h5

def k0_off570 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c12_i32 : BitVec 32 := 12#32
  let v279 : BitVec 32 := Scalar.addi v74 c12_i32
  let v280 : Index := Scalar.indexCast v279
  ![v280.toNat]
def k0_mult269 (v281 : BitVec 32) : BitVec 32 :=
  let c3_i32_116 : BitVec 32 := 3#32
  let v282 : BitVec 32 := Scalar.shrsi v281 c3_i32_116
  let c8191_i32_117 : BitVec 32 := 8191#32
  let v283 : BitVec 32 := Scalar.andi v282 c8191_i32_117
  let c8_i32_118 : BitVec 32 := 8#32
  let v284 : BitVec 32 := Scalar.muli v283 c8_i32_118
  v284

def k0_off571 (v281 : BitVec 32) : Fin 2 → Nat :=
  let c3_i32_116 : BitVec 32 := 3#32
  let v282 : BitVec 32 := Scalar.shrsi v281 c3_i32_116
  let c8191_i32_117 : BitVec 32 := 8191#32
  let v283 : BitVec 32 := Scalar.andi v282 c8191_i32_117
  let c8_i32_118 : BitVec 32 := 8#32
  let v284 : BitVec 32 := Scalar.muli v283 c8_i32_118
  let v285 : BitVec 32 := v284
  let v286 : Index := Scalar.indexCast v285
  let c0_119 : Index := 0#32
  ![v286.toNat, 0]
def k0_off572 (v281 : BitVec 32) : Fin 2 → Nat :=
  let c3_i32_116 : BitVec 32 := 3#32
  let v282 : BitVec 32 := Scalar.shrsi v281 c3_i32_116
  let c8191_i32_117 : BitVec 32 := 8191#32
  let v283 : BitVec 32 := Scalar.andi v282 c8191_i32_117
  let v291 : Index := Scalar.indexCast v283
  let c0_121 : Index := 0#32
  ![v291.toNat, 0]

def k0_chk272 (i : grid0.Coords) (v13 : BitVec 32) (v281 : BitVec 32) : Prop :=
  (∀ (k0_h5 : k0_cond5 i v13 = 1#1), 8 ∣ (k0_mult269 v281).toNat) ∧
  (∀ (k0_h5 : k0_cond5 i v13 = 1#1), ∀ a, (k0_off571 v281) a + S8x128.size a ≤ S65536x128.size a) ∧
  (∀ (k0_h5 : k0_cond5 i v13 = 1#1), ∀ a, (k0_off572 v281) a + S1x128.size a ≤ S8192x128.size a)
theorem k0_mult269_dvd : ∀ (i : grid0.Coords) (v13 : BitVec 32) (v281 : BitVec 32) (k0_hw272 : k0_chk272 i v13 v281), ∀ (k0_h5 : k0_cond5 i v13 = 1#1), 8 ∣ (k0_mult269 v281).toNat := fun i v13 v281 k0_hw272 k0_h5 => k0_hw272.1 k0_h5
theorem k0_off571_inb : ∀ (i : grid0.Coords) (v13 : BitVec 32) (v281 : BitVec 32) (k0_hw272 : k0_chk272 i v13 v281), ∀ (k0_h5 : k0_cond5 i v13 = 1#1), ∀ a, (k0_off571 v281) a + S8x128.size a ≤ S65536x128.size a := fun i v13 v281 k0_hw272 k0_h5 => k0_hw272.2.1 k0_h5
theorem k0_off572_inb : ∀ (i : grid0.Coords) (v13 : BitVec 32) (v281 : BitVec 32) (k0_hw272 : k0_chk272 i v13 v281), ∀ (k0_h5 : k0_cond5 i v13 = 1#1), ∀ a, (k0_off572 v281) a + S1x128.size a ≤ S8192x128.size a := fun i v13 v281 k0_hw272 k0_h5 => k0_hw272.2.2 k0_h5

def k0_off573 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c13_i32 : BitVec 32 := 13#32
  let v296 : BitVec 32 := Scalar.addi v74 c13_i32
  let v297 : Index := Scalar.indexCast v296
  ![v297.toNat]
def k0_mult270 (v298 : BitVec 32) : BitVec 32 :=
  let c3_i32_123 : BitVec 32 := 3#32
  let v299 : BitVec 32 := Scalar.shrsi v298 c3_i32_123
  let c8191_i32_124 : BitVec 32 := 8191#32
  let v300 : BitVec 32 := Scalar.andi v299 c8191_i32_124
  let c8_i32_125 : BitVec 32 := 8#32
  let v301 : BitVec 32 := Scalar.muli v300 c8_i32_125
  v301

def k0_off574 (v298 : BitVec 32) : Fin 2 → Nat :=
  let c3_i32_123 : BitVec 32 := 3#32
  let v299 : BitVec 32 := Scalar.shrsi v298 c3_i32_123
  let c8191_i32_124 : BitVec 32 := 8191#32
  let v300 : BitVec 32 := Scalar.andi v299 c8191_i32_124
  let c8_i32_125 : BitVec 32 := 8#32
  let v301 : BitVec 32 := Scalar.muli v300 c8_i32_125
  let v302 : BitVec 32 := v301
  let v303 : Index := Scalar.indexCast v302
  let c0_126 : Index := 0#32
  ![v303.toNat, 0]
def k0_off575 (v298 : BitVec 32) : Fin 2 → Nat :=
  let c3_i32_123 : BitVec 32 := 3#32
  let v299 : BitVec 32 := Scalar.shrsi v298 c3_i32_123
  let c8191_i32_124 : BitVec 32 := 8191#32
  let v300 : BitVec 32 := Scalar.andi v299 c8191_i32_124
  let v308 : Index := Scalar.indexCast v300
  let c0_128 : Index := 0#32
  ![v308.toNat, 0]

def k0_chk273 (i : grid0.Coords) (v13 : BitVec 32) (v298 : BitVec 32) : Prop :=
  (∀ (k0_h5 : k0_cond5 i v13 = 1#1), 8 ∣ (k0_mult270 v298).toNat) ∧
  (∀ (k0_h5 : k0_cond5 i v13 = 1#1), ∀ a, (k0_off574 v298) a + S8x128.size a ≤ S65536x128.size a) ∧
  (∀ (k0_h5 : k0_cond5 i v13 = 1#1), ∀ a, (k0_off575 v298) a + S1x128.size a ≤ S8192x128.size a)
theorem k0_mult270_dvd : ∀ (i : grid0.Coords) (v13 : BitVec 32) (v298 : BitVec 32) (k0_hw273 : k0_chk273 i v13 v298), ∀ (k0_h5 : k0_cond5 i v13 = 1#1), 8 ∣ (k0_mult270 v298).toNat := fun i v13 v298 k0_hw273 k0_h5 => k0_hw273.1 k0_h5
theorem k0_off574_inb : ∀ (i : grid0.Coords) (v13 : BitVec 32) (v298 : BitVec 32) (k0_hw273 : k0_chk273 i v13 v298), ∀ (k0_h5 : k0_cond5 i v13 = 1#1), ∀ a, (k0_off574 v298) a + S8x128.size a ≤ S65536x128.size a := fun i v13 v298 k0_hw273 k0_h5 => k0_hw273.2.1 k0_h5
theorem k0_off575_inb : ∀ (i : grid0.Coords) (v13 : BitVec 32) (v298 : BitVec 32) (k0_hw273 : k0_chk273 i v13 v298), ∀ (k0_h5 : k0_cond5 i v13 = 1#1), ∀ a, (k0_off575 v298) a + S1x128.size a ≤ S8192x128.size a := fun i v13 v298 k0_hw273 k0_h5 => k0_hw273.2.2 k0_h5

def k0_off576 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c14_i32 : BitVec 32 := 14#32
  let v313 : BitVec 32 := Scalar.addi v74 c14_i32
  let v314 : Index := Scalar.indexCast v313
  ![v314.toNat]
def k0_mult271 (v315 : BitVec 32) : BitVec 32 :=
  let c3_i32_130 : BitVec 32 := 3#32
  let v316 : BitVec 32 := Scalar.shrsi v315 c3_i32_130
  let c8191_i32_131 : BitVec 32 := 8191#32
  let v317 : BitVec 32 := Scalar.andi v316 c8191_i32_131
  let c8_i32_132 : BitVec 32 := 8#32
  let v318 : BitVec 32 := Scalar.muli v317 c8_i32_132
  v318

def k0_off577 (v315 : BitVec 32) : Fin 2 → Nat :=
  let c3_i32_130 : BitVec 32 := 3#32
  let v316 : BitVec 32 := Scalar.shrsi v315 c3_i32_130
  let c8191_i32_131 : BitVec 32 := 8191#32
  let v317 : BitVec 32 := Scalar.andi v316 c8191_i32_131
  let c8_i32_132 : BitVec 32 := 8#32
  let v318 : BitVec 32 := Scalar.muli v317 c8_i32_132
  let v319 : BitVec 32 := v318
  let v320 : Index := Scalar.indexCast v319
  let c0_133 : Index := 0#32
  ![v320.toNat, 0]
def k0_off578 (v315 : BitVec 32) : Fin 2 → Nat :=
  let c3_i32_130 : BitVec 32 := 3#32
  let v316 : BitVec 32 := Scalar.shrsi v315 c3_i32_130
  let c8191_i32_131 : BitVec 32 := 8191#32
  let v317 : BitVec 32 := Scalar.andi v316 c8191_i32_131
  let v325 : Index := Scalar.indexCast v317
  let c0_135 : Index := 0#32
  ![v325.toNat, 0]

def k0_chk274 (i : grid0.Coords) (v13 : BitVec 32) (v315 : BitVec 32) : Prop :=
  (∀ (k0_h5 : k0_cond5 i v13 = 1#1), 8 ∣ (k0_mult271 v315).toNat) ∧
  (∀ (k0_h5 : k0_cond5 i v13 = 1#1), ∀ a, (k0_off577 v315) a + S8x128.size a ≤ S65536x128.size a) ∧
  (∀ (k0_h5 : k0_cond5 i v13 = 1#1), ∀ a, (k0_off578 v315) a + S1x128.size a ≤ S8192x128.size a)
theorem k0_mult271_dvd : ∀ (i : grid0.Coords) (v13 : BitVec 32) (v315 : BitVec 32) (k0_hw274 : k0_chk274 i v13 v315), ∀ (k0_h5 : k0_cond5 i v13 = 1#1), 8 ∣ (k0_mult271 v315).toNat := fun i v13 v315 k0_hw274 k0_h5 => k0_hw274.1 k0_h5
theorem k0_off577_inb : ∀ (i : grid0.Coords) (v13 : BitVec 32) (v315 : BitVec 32) (k0_hw274 : k0_chk274 i v13 v315), ∀ (k0_h5 : k0_cond5 i v13 = 1#1), ∀ a, (k0_off577 v315) a + S8x128.size a ≤ S65536x128.size a := fun i v13 v315 k0_hw274 k0_h5 => k0_hw274.2.1 k0_h5
theorem k0_off578_inb : ∀ (i : grid0.Coords) (v13 : BitVec 32) (v315 : BitVec 32) (k0_hw274 : k0_chk274 i v13 v315), ∀ (k0_h5 : k0_cond5 i v13 = 1#1), ∀ a, (k0_off578 v315) a + S1x128.size a ≤ S8192x128.size a := fun i v13 v315 k0_hw274 k0_h5 => k0_hw274.2.2 k0_h5

def k0_off579 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c15_i32 : BitVec 32 := 15#32
  let v330 : BitVec 32 := Scalar.addi v74 c15_i32
  let v331 : Index := Scalar.indexCast v330
  ![v331.toNat]
def k0_mult272 (v332 : BitVec 32) : BitVec 32 :=
  let c3_i32_137 : BitVec 32 := 3#32
  let v333 : BitVec 32 := Scalar.shrsi v332 c3_i32_137
  let c8191_i32_138 : BitVec 32 := 8191#32
  let v334 : BitVec 32 := Scalar.andi v333 c8191_i32_138
  let c8_i32_139 : BitVec 32 := 8#32
  let v335 : BitVec 32 := Scalar.muli v334 c8_i32_139
  v335

def k0_off580 (v332 : BitVec 32) : Fin 2 → Nat :=
  let c3_i32_137 : BitVec 32 := 3#32
  let v333 : BitVec 32 := Scalar.shrsi v332 c3_i32_137
  let c8191_i32_138 : BitVec 32 := 8191#32
  let v334 : BitVec 32 := Scalar.andi v333 c8191_i32_138
  let c8_i32_139 : BitVec 32 := 8#32
  let v335 : BitVec 32 := Scalar.muli v334 c8_i32_139
  let v336 : BitVec 32 := v335
  let v337 : Index := Scalar.indexCast v336
  let c0_140 : Index := 0#32
  ![v337.toNat, 0]
def k0_off581 (v332 : BitVec 32) : Fin 2 → Nat :=
  let c3_i32_137 : BitVec 32 := 3#32
  let v333 : BitVec 32 := Scalar.shrsi v332 c3_i32_137
  let c8191_i32_138 : BitVec 32 := 8191#32
  let v334 : BitVec 32 := Scalar.andi v333 c8191_i32_138
  let v342 : Index := Scalar.indexCast v334
  let c0_142 : Index := 0#32
  ![v342.toNat, 0]

def k0_chk275 (i : grid0.Coords) (v13 : BitVec 32) (v332 : BitVec 32) : Prop :=
  (∀ (k0_h5 : k0_cond5 i v13 = 1#1), 8 ∣ (k0_mult272 v332).toNat) ∧
  (∀ (k0_h5 : k0_cond5 i v13 = 1#1), ∀ a, (k0_off580 v332) a + S8x128.size a ≤ S65536x128.size a) ∧
  (∀ (k0_h5 : k0_cond5 i v13 = 1#1), ∀ a, (k0_off581 v332) a + S1x128.size a ≤ S8192x128.size a)
theorem k0_mult272_dvd : ∀ (i : grid0.Coords) (v13 : BitVec 32) (v332 : BitVec 32) (k0_hw275 : k0_chk275 i v13 v332), ∀ (k0_h5 : k0_cond5 i v13 = 1#1), 8 ∣ (k0_mult272 v332).toNat := fun i v13 v332 k0_hw275 k0_h5 => k0_hw275.1 k0_h5
theorem k0_off580_inb : ∀ (i : grid0.Coords) (v13 : BitVec 32) (v332 : BitVec 32) (k0_hw275 : k0_chk275 i v13 v332), ∀ (k0_h5 : k0_cond5 i v13 = 1#1), ∀ a, (k0_off580 v332) a + S8x128.size a ≤ S65536x128.size a := fun i v13 v332 k0_hw275 k0_h5 => k0_hw275.2.1 k0_h5
theorem k0_off581_inb : ∀ (i : grid0.Coords) (v13 : BitVec 32) (v332 : BitVec 32) (k0_hw275 : k0_chk275 i v13 v332), ∀ (k0_h5 : k0_cond5 i v13 = 1#1), ∀ a, (k0_off581 v332) a + S1x128.size a ≤ S8192x128.size a := fun i v13 v332 k0_hw275 k0_h5 => k0_hw275.2.2 k0_h5

def k0_off582 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c16_i32 : BitVec 32 := 16#32
  let v347 : BitVec 32 := Scalar.addi v74 c16_i32
  let v348 : Index := Scalar.indexCast v347
  ![v348.toNat]
def k0_mult273 (v349 : BitVec 32) : BitVec 32 :=
  let c3_i32_144 : BitVec 32 := 3#32
  let v350 : BitVec 32 := Scalar.shrsi v349 c3_i32_144
  let c8191_i32_145 : BitVec 32 := 8191#32
  let v351 : BitVec 32 := Scalar.andi v350 c8191_i32_145
  let c8_i32_146 : BitVec 32 := 8#32
  let v352 : BitVec 32 := Scalar.muli v351 c8_i32_146
  v352

def k0_off583 (v349 : BitVec 32) : Fin 2 → Nat :=
  let c3_i32_144 : BitVec 32 := 3#32
  let v350 : BitVec 32 := Scalar.shrsi v349 c3_i32_144
  let c8191_i32_145 : BitVec 32 := 8191#32
  let v351 : BitVec 32 := Scalar.andi v350 c8191_i32_145
  let c8_i32_146 : BitVec 32 := 8#32
  let v352 : BitVec 32 := Scalar.muli v351 c8_i32_146
  let v353 : BitVec 32 := v352
  let v354 : Index := Scalar.indexCast v353
  let c0_147 : Index := 0#32
  ![v354.toNat, 0]
def k0_off584 (v349 : BitVec 32) : Fin 2 → Nat :=
  let c3_i32_144 : BitVec 32 := 3#32
  let v350 : BitVec 32 := Scalar.shrsi v349 c3_i32_144
  let c8191_i32_145 : BitVec 32 := 8191#32
  let v351 : BitVec 32 := Scalar.andi v350 c8191_i32_145
  let v359 : Index := Scalar.indexCast v351
  let c0_149 : Index := 0#32
  ![v359.toNat, 0]

def k0_chk276 (i : grid0.Coords) (v13 : BitVec 32) (v349 : BitVec 32) : Prop :=
  (∀ (k0_h5 : k0_cond5 i v13 = 1#1), 8 ∣ (k0_mult273 v349).toNat) ∧
  (∀ (k0_h5 : k0_cond5 i v13 = 1#1), ∀ a, (k0_off583 v349) a + S8x128.size a ≤ S65536x128.size a) ∧
  (∀ (k0_h5 : k0_cond5 i v13 = 1#1), ∀ a, (k0_off584 v349) a + S1x128.size a ≤ S8192x128.size a)
theorem k0_mult273_dvd : ∀ (i : grid0.Coords) (v13 : BitVec 32) (v349 : BitVec 32) (k0_hw276 : k0_chk276 i v13 v349), ∀ (k0_h5 : k0_cond5 i v13 = 1#1), 8 ∣ (k0_mult273 v349).toNat := fun i v13 v349 k0_hw276 k0_h5 => k0_hw276.1 k0_h5
theorem k0_off583_inb : ∀ (i : grid0.Coords) (v13 : BitVec 32) (v349 : BitVec 32) (k0_hw276 : k0_chk276 i v13 v349), ∀ (k0_h5 : k0_cond5 i v13 = 1#1), ∀ a, (k0_off583 v349) a + S8x128.size a ≤ S65536x128.size a := fun i v13 v349 k0_hw276 k0_h5 => k0_hw276.2.1 k0_h5
theorem k0_off584_inb : ∀ (i : grid0.Coords) (v13 : BitVec 32) (v349 : BitVec 32) (k0_hw276 : k0_chk276 i v13 v349), ∀ (k0_h5 : k0_cond5 i v13 = 1#1), ∀ a, (k0_off584 v349) a + S1x128.size a ≤ S8192x128.size a := fun i v13 v349 k0_hw276 k0_h5 => k0_hw276.2.2 k0_h5

def k0_off585 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c17_i32 : BitVec 32 := 17#32
  let v364 : BitVec 32 := Scalar.addi v74 c17_i32
  let v365 : Index := Scalar.indexCast v364
  ![v365.toNat]
def k0_mult274 (v366 : BitVec 32) : BitVec 32 :=
  let c3_i32_152 : BitVec 32 := 3#32
  let v367 : BitVec 32 := Scalar.shrsi v366 c3_i32_152
  let c8191_i32_153 : BitVec 32 := 8191#32
  let v368 : BitVec 32 := Scalar.andi v367 c8191_i32_153
  let c8_i32_154 : BitVec 32 := 8#32
  let v369 : BitVec 32 := Scalar.muli v368 c8_i32_154
  v369

def k0_off586 (v366 : BitVec 32) : Fin 2 → Nat :=
  let c3_i32_152 : BitVec 32 := 3#32
  let v367 : BitVec 32 := Scalar.shrsi v366 c3_i32_152
  let c8191_i32_153 : BitVec 32 := 8191#32
  let v368 : BitVec 32 := Scalar.andi v367 c8191_i32_153
  let c8_i32_154 : BitVec 32 := 8#32
  let v369 : BitVec 32 := Scalar.muli v368 c8_i32_154
  let v370 : BitVec 32 := v369
  let v371 : Index := Scalar.indexCast v370
  let c0_155 : Index := 0#32
  ![v371.toNat, 0]
def k0_off587 (v366 : BitVec 32) : Fin 2 → Nat :=
  let c3_i32_152 : BitVec 32 := 3#32
  let v367 : BitVec 32 := Scalar.shrsi v366 c3_i32_152
  let c8191_i32_153 : BitVec 32 := 8191#32
  let v368 : BitVec 32 := Scalar.andi v367 c8191_i32_153
  let v376 : Index := Scalar.indexCast v368
  let c0_157 : Index := 0#32
  ![v376.toNat, 0]

def k0_chk277 (i : grid0.Coords) (v13 : BitVec 32) (v366 : BitVec 32) : Prop :=
  (∀ (k0_h5 : k0_cond5 i v13 = 1#1), 8 ∣ (k0_mult274 v366).toNat) ∧
  (∀ (k0_h5 : k0_cond5 i v13 = 1#1), ∀ a, (k0_off586 v366) a + S8x128.size a ≤ S65536x128.size a) ∧
  (∀ (k0_h5 : k0_cond5 i v13 = 1#1), ∀ a, (k0_off587 v366) a + S1x128.size a ≤ S8192x128.size a)
theorem k0_mult274_dvd : ∀ (i : grid0.Coords) (v13 : BitVec 32) (v366 : BitVec 32) (k0_hw277 : k0_chk277 i v13 v366), ∀ (k0_h5 : k0_cond5 i v13 = 1#1), 8 ∣ (k0_mult274 v366).toNat := fun i v13 v366 k0_hw277 k0_h5 => k0_hw277.1 k0_h5
theorem k0_off586_inb : ∀ (i : grid0.Coords) (v13 : BitVec 32) (v366 : BitVec 32) (k0_hw277 : k0_chk277 i v13 v366), ∀ (k0_h5 : k0_cond5 i v13 = 1#1), ∀ a, (k0_off586 v366) a + S8x128.size a ≤ S65536x128.size a := fun i v13 v366 k0_hw277 k0_h5 => k0_hw277.2.1 k0_h5
theorem k0_off587_inb : ∀ (i : grid0.Coords) (v13 : BitVec 32) (v366 : BitVec 32) (k0_hw277 : k0_chk277 i v13 v366), ∀ (k0_h5 : k0_cond5 i v13 = 1#1), ∀ a, (k0_off587 v366) a + S1x128.size a ≤ S8192x128.size a := fun i v13 v366 k0_hw277 k0_h5 => k0_hw277.2.2 k0_h5

def k0_off588 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c18_i32 : BitVec 32 := 18#32
  let v381 : BitVec 32 := Scalar.addi v74 c18_i32
  let v382 : Index := Scalar.indexCast v381
  ![v382.toNat]
def k0_mult275 (v383 : BitVec 32) : BitVec 32 :=
  let c3_i32_159 : BitVec 32 := 3#32
  let v384 : BitVec 32 := Scalar.shrsi v383 c3_i32_159
  let c8191_i32_160 : BitVec 32 := 8191#32
  let v385 : BitVec 32 := Scalar.andi v384 c8191_i32_160
  let c8_i32_161 : BitVec 32 := 8#32
  let v386 : BitVec 32 := Scalar.muli v385 c8_i32_161
  v386

def k0_off589 (v383 : BitVec 32) : Fin 2 → Nat :=
  let c3_i32_159 : BitVec 32 := 3#32
  let v384 : BitVec 32 := Scalar.shrsi v383 c3_i32_159
  let c8191_i32_160 : BitVec 32 := 8191#32
  let v385 : BitVec 32 := Scalar.andi v384 c8191_i32_160
  let c8_i32_161 : BitVec 32 := 8#32
  let v386 : BitVec 32 := Scalar.muli v385 c8_i32_161
  let v387 : BitVec 32 := v386
  let v388 : Index := Scalar.indexCast v387
  let c0_162 : Index := 0#32
  ![v388.toNat, 0]
def k0_off590 (v383 : BitVec 32) : Fin 2 → Nat :=
  let c3_i32_159 : BitVec 32 := 3#32
  let v384 : BitVec 32 := Scalar.shrsi v383 c3_i32_159
  let c8191_i32_160 : BitVec 32 := 8191#32
  let v385 : BitVec 32 := Scalar.andi v384 c8191_i32_160
  let v393 : Index := Scalar.indexCast v385
  let c0_164 : Index := 0#32
  ![v393.toNat, 0]

def k0_chk278 (i : grid0.Coords) (v13 : BitVec 32) (v383 : BitVec 32) : Prop :=
  (∀ (k0_h5 : k0_cond5 i v13 = 1#1), 8 ∣ (k0_mult275 v383).toNat) ∧
  (∀ (k0_h5 : k0_cond5 i v13 = 1#1), ∀ a, (k0_off589 v383) a + S8x128.size a ≤ S65536x128.size a) ∧
  (∀ (k0_h5 : k0_cond5 i v13 = 1#1), ∀ a, (k0_off590 v383) a + S1x128.size a ≤ S8192x128.size a)
theorem k0_mult275_dvd : ∀ (i : grid0.Coords) (v13 : BitVec 32) (v383 : BitVec 32) (k0_hw278 : k0_chk278 i v13 v383), ∀ (k0_h5 : k0_cond5 i v13 = 1#1), 8 ∣ (k0_mult275 v383).toNat := fun i v13 v383 k0_hw278 k0_h5 => k0_hw278.1 k0_h5
theorem k0_off589_inb : ∀ (i : grid0.Coords) (v13 : BitVec 32) (v383 : BitVec 32) (k0_hw278 : k0_chk278 i v13 v383), ∀ (k0_h5 : k0_cond5 i v13 = 1#1), ∀ a, (k0_off589 v383) a + S8x128.size a ≤ S65536x128.size a := fun i v13 v383 k0_hw278 k0_h5 => k0_hw278.2.1 k0_h5
theorem k0_off590_inb : ∀ (i : grid0.Coords) (v13 : BitVec 32) (v383 : BitVec 32) (k0_hw278 : k0_chk278 i v13 v383), ∀ (k0_h5 : k0_cond5 i v13 = 1#1), ∀ a, (k0_off590 v383) a + S1x128.size a ≤ S8192x128.size a := fun i v13 v383 k0_hw278 k0_h5 => k0_hw278.2.2 k0_h5

def k0_off591 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c19_i32 : BitVec 32 := 19#32
  let v398 : BitVec 32 := Scalar.addi v74 c19_i32
  let v399 : Index := Scalar.indexCast v398
  ![v399.toNat]
def k0_mult276 (v400 : BitVec 32) : BitVec 32 :=
  let c3_i32_166 : BitVec 32 := 3#32
  let v401 : BitVec 32 := Scalar.shrsi v400 c3_i32_166
  let c8191_i32_167 : BitVec 32 := 8191#32
  let v402 : BitVec 32 := Scalar.andi v401 c8191_i32_167
  let c8_i32_168 : BitVec 32 := 8#32
  let v403 : BitVec 32 := Scalar.muli v402 c8_i32_168
  v403

def k0_off592 (v400 : BitVec 32) : Fin 2 → Nat :=
  let c3_i32_166 : BitVec 32 := 3#32
  let v401 : BitVec 32 := Scalar.shrsi v400 c3_i32_166
  let c8191_i32_167 : BitVec 32 := 8191#32
  let v402 : BitVec 32 := Scalar.andi v401 c8191_i32_167
  let c8_i32_168 : BitVec 32 := 8#32
  let v403 : BitVec 32 := Scalar.muli v402 c8_i32_168
  let v404 : BitVec 32 := v403
  let v405 : Index := Scalar.indexCast v404
  let c0_169 : Index := 0#32
  ![v405.toNat, 0]
def k0_off593 (v400 : BitVec 32) : Fin 2 → Nat :=
  let c3_i32_166 : BitVec 32 := 3#32
  let v401 : BitVec 32 := Scalar.shrsi v400 c3_i32_166
  let c8191_i32_167 : BitVec 32 := 8191#32
  let v402 : BitVec 32 := Scalar.andi v401 c8191_i32_167
  let v410 : Index := Scalar.indexCast v402
  let c0_171 : Index := 0#32
  ![v410.toNat, 0]

def k0_chk279 (i : grid0.Coords) (v13 : BitVec 32) (v400 : BitVec 32) : Prop :=
  (∀ (k0_h5 : k0_cond5 i v13 = 1#1), 8 ∣ (k0_mult276 v400).toNat) ∧
  (∀ (k0_h5 : k0_cond5 i v13 = 1#1), ∀ a, (k0_off592 v400) a + S8x128.size a ≤ S65536x128.size a) ∧
  (∀ (k0_h5 : k0_cond5 i v13 = 1#1), ∀ a, (k0_off593 v400) a + S1x128.size a ≤ S8192x128.size a)
theorem k0_mult276_dvd : ∀ (i : grid0.Coords) (v13 : BitVec 32) (v400 : BitVec 32) (k0_hw279 : k0_chk279 i v13 v400), ∀ (k0_h5 : k0_cond5 i v13 = 1#1), 8 ∣ (k0_mult276 v400).toNat := fun i v13 v400 k0_hw279 k0_h5 => k0_hw279.1 k0_h5
theorem k0_off592_inb : ∀ (i : grid0.Coords) (v13 : BitVec 32) (v400 : BitVec 32) (k0_hw279 : k0_chk279 i v13 v400), ∀ (k0_h5 : k0_cond5 i v13 = 1#1), ∀ a, (k0_off592 v400) a + S8x128.size a ≤ S65536x128.size a := fun i v13 v400 k0_hw279 k0_h5 => k0_hw279.2.1 k0_h5
theorem k0_off593_inb : ∀ (i : grid0.Coords) (v13 : BitVec 32) (v400 : BitVec 32) (k0_hw279 : k0_chk279 i v13 v400), ∀ (k0_h5 : k0_cond5 i v13 = 1#1), ∀ a, (k0_off593 v400) a + S1x128.size a ≤ S8192x128.size a := fun i v13 v400 k0_hw279 k0_h5 => k0_hw279.2.2 k0_h5

def k0_off594 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c20_i32 : BitVec 32 := 20#32
  let v415 : BitVec 32 := Scalar.addi v74 c20_i32
  let v416 : Index := Scalar.indexCast v415
  ![v416.toNat]
def k0_mult277 (v417 : BitVec 32) : BitVec 32 :=
  let c3_i32_173 : BitVec 32 := 3#32
  let v418 : BitVec 32 := Scalar.shrsi v417 c3_i32_173
  let c8191_i32_174 : BitVec 32 := 8191#32
  let v419 : BitVec 32 := Scalar.andi v418 c8191_i32_174
  let c8_i32_175 : BitVec 32 := 8#32
  let v420 : BitVec 32 := Scalar.muli v419 c8_i32_175
  v420

def k0_off595 (v417 : BitVec 32) : Fin 2 → Nat :=
  let c3_i32_173 : BitVec 32 := 3#32
  let v418 : BitVec 32 := Scalar.shrsi v417 c3_i32_173
  let c8191_i32_174 : BitVec 32 := 8191#32
  let v419 : BitVec 32 := Scalar.andi v418 c8191_i32_174
  let c8_i32_175 : BitVec 32 := 8#32
  let v420 : BitVec 32 := Scalar.muli v419 c8_i32_175
  let v421 : BitVec 32 := v420
  let v422 : Index := Scalar.indexCast v421
  let c0_176 : Index := 0#32
  ![v422.toNat, 0]
def k0_off596 (v417 : BitVec 32) : Fin 2 → Nat :=
  let c3_i32_173 : BitVec 32 := 3#32
  let v418 : BitVec 32 := Scalar.shrsi v417 c3_i32_173
  let c8191_i32_174 : BitVec 32 := 8191#32
  let v419 : BitVec 32 := Scalar.andi v418 c8191_i32_174
  let v427 : Index := Scalar.indexCast v419
  let c0_178 : Index := 0#32
  ![v427.toNat, 0]

def k0_chk280 (i : grid0.Coords) (v13 : BitVec 32) (v417 : BitVec 32) : Prop :=
  (∀ (k0_h5 : k0_cond5 i v13 = 1#1), 8 ∣ (k0_mult277 v417).toNat) ∧
  (∀ (k0_h5 : k0_cond5 i v13 = 1#1), ∀ a, (k0_off595 v417) a + S8x128.size a ≤ S65536x128.size a) ∧
  (∀ (k0_h5 : k0_cond5 i v13 = 1#1), ∀ a, (k0_off596 v417) a + S1x128.size a ≤ S8192x128.size a)
theorem k0_mult277_dvd : ∀ (i : grid0.Coords) (v13 : BitVec 32) (v417 : BitVec 32) (k0_hw280 : k0_chk280 i v13 v417), ∀ (k0_h5 : k0_cond5 i v13 = 1#1), 8 ∣ (k0_mult277 v417).toNat := fun i v13 v417 k0_hw280 k0_h5 => k0_hw280.1 k0_h5
theorem k0_off595_inb : ∀ (i : grid0.Coords) (v13 : BitVec 32) (v417 : BitVec 32) (k0_hw280 : k0_chk280 i v13 v417), ∀ (k0_h5 : k0_cond5 i v13 = 1#1), ∀ a, (k0_off595 v417) a + S8x128.size a ≤ S65536x128.size a := fun i v13 v417 k0_hw280 k0_h5 => k0_hw280.2.1 k0_h5
theorem k0_off596_inb : ∀ (i : grid0.Coords) (v13 : BitVec 32) (v417 : BitVec 32) (k0_hw280 : k0_chk280 i v13 v417), ∀ (k0_h5 : k0_cond5 i v13 = 1#1), ∀ a, (k0_off596 v417) a + S1x128.size a ≤ S8192x128.size a := fun i v13 v417 k0_hw280 k0_h5 => k0_hw280.2.2 k0_h5

def k0_off597 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c21_i32 : BitVec 32 := 21#32
  let v432 : BitVec 32 := Scalar.addi v74 c21_i32
  let v433 : Index := Scalar.indexCast v432
  ![v433.toNat]
def k0_mult278 (v434 : BitVec 32) : BitVec 32 :=
  let c3_i32_180 : BitVec 32 := 3#32
  let v435 : BitVec 32 := Scalar.shrsi v434 c3_i32_180
  let c8191_i32_181 : BitVec 32 := 8191#32
  let v436 : BitVec 32 := Scalar.andi v435 c8191_i32_181
  let c8_i32_182 : BitVec 32 := 8#32
  let v437 : BitVec 32 := Scalar.muli v436 c8_i32_182
  v437

def k0_off598 (v434 : BitVec 32) : Fin 2 → Nat :=
  let c3_i32_180 : BitVec 32 := 3#32
  let v435 : BitVec 32 := Scalar.shrsi v434 c3_i32_180
  let c8191_i32_181 : BitVec 32 := 8191#32
  let v436 : BitVec 32 := Scalar.andi v435 c8191_i32_181
  let c8_i32_182 : BitVec 32 := 8#32
  let v437 : BitVec 32 := Scalar.muli v436 c8_i32_182
  let v438 : BitVec 32 := v437
  let v439 : Index := Scalar.indexCast v438
  let c0_183 : Index := 0#32
  ![v439.toNat, 0]
def k0_off599 (v434 : BitVec 32) : Fin 2 → Nat :=
  let c3_i32_180 : BitVec 32 := 3#32
  let v435 : BitVec 32 := Scalar.shrsi v434 c3_i32_180
  let c8191_i32_181 : BitVec 32 := 8191#32
  let v436 : BitVec 32 := Scalar.andi v435 c8191_i32_181
  let v444 : Index := Scalar.indexCast v436
  let c0_185 : Index := 0#32
  ![v444.toNat, 0]

def k0_chk281 (i : grid0.Coords) (v13 : BitVec 32) (v434 : BitVec 32) : Prop :=
  (∀ (k0_h5 : k0_cond5 i v13 = 1#1), 8 ∣ (k0_mult278 v434).toNat) ∧
  (∀ (k0_h5 : k0_cond5 i v13 = 1#1), ∀ a, (k0_off598 v434) a + S8x128.size a ≤ S65536x128.size a) ∧
  (∀ (k0_h5 : k0_cond5 i v13 = 1#1), ∀ a, (k0_off599 v434) a + S1x128.size a ≤ S8192x128.size a)
theorem k0_mult278_dvd : ∀ (i : grid0.Coords) (v13 : BitVec 32) (v434 : BitVec 32) (k0_hw281 : k0_chk281 i v13 v434), ∀ (k0_h5 : k0_cond5 i v13 = 1#1), 8 ∣ (k0_mult278 v434).toNat := fun i v13 v434 k0_hw281 k0_h5 => k0_hw281.1 k0_h5
theorem k0_off598_inb : ∀ (i : grid0.Coords) (v13 : BitVec 32) (v434 : BitVec 32) (k0_hw281 : k0_chk281 i v13 v434), ∀ (k0_h5 : k0_cond5 i v13 = 1#1), ∀ a, (k0_off598 v434) a + S8x128.size a ≤ S65536x128.size a := fun i v13 v434 k0_hw281 k0_h5 => k0_hw281.2.1 k0_h5
theorem k0_off599_inb : ∀ (i : grid0.Coords) (v13 : BitVec 32) (v434 : BitVec 32) (k0_hw281 : k0_chk281 i v13 v434), ∀ (k0_h5 : k0_cond5 i v13 = 1#1), ∀ a, (k0_off599 v434) a + S1x128.size a ≤ S8192x128.size a := fun i v13 v434 k0_hw281 k0_h5 => k0_hw281.2.2 k0_h5

def k0_off600 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c22_i32 : BitVec 32 := 22#32
  let v449 : BitVec 32 := Scalar.addi v74 c22_i32
  let v450 : Index := Scalar.indexCast v449
  ![v450.toNat]
def k0_mult279 (v451 : BitVec 32) : BitVec 32 :=
  let c3_i32_187 : BitVec 32 := 3#32
  let v452 : BitVec 32 := Scalar.shrsi v451 c3_i32_187
  let c8191_i32_188 : BitVec 32 := 8191#32
  let v453 : BitVec 32 := Scalar.andi v452 c8191_i32_188
  let c8_i32_189 : BitVec 32 := 8#32
  let v454 : BitVec 32 := Scalar.muli v453 c8_i32_189
  v454

def k0_off601 (v451 : BitVec 32) : Fin 2 → Nat :=
  let c3_i32_187 : BitVec 32 := 3#32
  let v452 : BitVec 32 := Scalar.shrsi v451 c3_i32_187
  let c8191_i32_188 : BitVec 32 := 8191#32
  let v453 : BitVec 32 := Scalar.andi v452 c8191_i32_188
  let c8_i32_189 : BitVec 32 := 8#32
  let v454 : BitVec 32 := Scalar.muli v453 c8_i32_189
  let v455 : BitVec 32 := v454
  let v456 : Index := Scalar.indexCast v455
  let c0_190 : Index := 0#32
  ![v456.toNat, 0]
def k0_off602 (v451 : BitVec 32) : Fin 2 → Nat :=
  let c3_i32_187 : BitVec 32 := 3#32
  let v452 : BitVec 32 := Scalar.shrsi v451 c3_i32_187
  let c8191_i32_188 : BitVec 32 := 8191#32
  let v453 : BitVec 32 := Scalar.andi v452 c8191_i32_188
  let v461 : Index := Scalar.indexCast v453
  let c0_192 : Index := 0#32
  ![v461.toNat, 0]

def k0_chk282 (i : grid0.Coords) (v13 : BitVec 32) (v451 : BitVec 32) : Prop :=
  (∀ (k0_h5 : k0_cond5 i v13 = 1#1), 8 ∣ (k0_mult279 v451).toNat) ∧
  (∀ (k0_h5 : k0_cond5 i v13 = 1#1), ∀ a, (k0_off601 v451) a + S8x128.size a ≤ S65536x128.size a) ∧
  (∀ (k0_h5 : k0_cond5 i v13 = 1#1), ∀ a, (k0_off602 v451) a + S1x128.size a ≤ S8192x128.size a)
theorem k0_mult279_dvd : ∀ (i : grid0.Coords) (v13 : BitVec 32) (v451 : BitVec 32) (k0_hw282 : k0_chk282 i v13 v451), ∀ (k0_h5 : k0_cond5 i v13 = 1#1), 8 ∣ (k0_mult279 v451).toNat := fun i v13 v451 k0_hw282 k0_h5 => k0_hw282.1 k0_h5
theorem k0_off601_inb : ∀ (i : grid0.Coords) (v13 : BitVec 32) (v451 : BitVec 32) (k0_hw282 : k0_chk282 i v13 v451), ∀ (k0_h5 : k0_cond5 i v13 = 1#1), ∀ a, (k0_off601 v451) a + S8x128.size a ≤ S65536x128.size a := fun i v13 v451 k0_hw282 k0_h5 => k0_hw282.2.1 k0_h5
theorem k0_off602_inb : ∀ (i : grid0.Coords) (v13 : BitVec 32) (v451 : BitVec 32) (k0_hw282 : k0_chk282 i v13 v451), ∀ (k0_h5 : k0_cond5 i v13 = 1#1), ∀ a, (k0_off602 v451) a + S1x128.size a ≤ S8192x128.size a := fun i v13 v451 k0_hw282 k0_h5 => k0_hw282.2.2 k0_h5

def k0_off603 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c23_i32 : BitVec 32 := 23#32
  let v466 : BitVec 32 := Scalar.addi v74 c23_i32
  let v467 : Index := Scalar.indexCast v466
  ![v467.toNat]
def k0_mult280 (v468 : BitVec 32) : BitVec 32 :=
  let c3_i32_194 : BitVec 32 := 3#32
  let v469 : BitVec 32 := Scalar.shrsi v468 c3_i32_194
  let c8191_i32_195 : BitVec 32 := 8191#32
  let v470 : BitVec 32 := Scalar.andi v469 c8191_i32_195
  let c8_i32_196 : BitVec 32 := 8#32
  let v471 : BitVec 32 := Scalar.muli v470 c8_i32_196
  v471

def k0_off604 (v468 : BitVec 32) : Fin 2 → Nat :=
  let c3_i32_194 : BitVec 32 := 3#32
  let v469 : BitVec 32 := Scalar.shrsi v468 c3_i32_194
  let c8191_i32_195 : BitVec 32 := 8191#32
  let v470 : BitVec 32 := Scalar.andi v469 c8191_i32_195
  let c8_i32_196 : BitVec 32 := 8#32
  let v471 : BitVec 32 := Scalar.muli v470 c8_i32_196
  let v472 : BitVec 32 := v471
  let v473 : Index := Scalar.indexCast v472
  let c0_197 : Index := 0#32
  ![v473.toNat, 0]
def k0_off605 (v468 : BitVec 32) : Fin 2 → Nat :=
  let c3_i32_194 : BitVec 32 := 3#32
  let v469 : BitVec 32 := Scalar.shrsi v468 c3_i32_194
  let c8191_i32_195 : BitVec 32 := 8191#32
  let v470 : BitVec 32 := Scalar.andi v469 c8191_i32_195
  let v478 : Index := Scalar.indexCast v470
  let c0_199 : Index := 0#32
  ![v478.toNat, 0]

def k0_chk283 (i : grid0.Coords) (v13 : BitVec 32) (v468 : BitVec 32) : Prop :=
  (∀ (k0_h5 : k0_cond5 i v13 = 1#1), 8 ∣ (k0_mult280 v468).toNat) ∧
  (∀ (k0_h5 : k0_cond5 i v13 = 1#1), ∀ a, (k0_off604 v468) a + S8x128.size a ≤ S65536x128.size a) ∧
  (∀ (k0_h5 : k0_cond5 i v13 = 1#1), ∀ a, (k0_off605 v468) a + S1x128.size a ≤ S8192x128.size a)
theorem k0_mult280_dvd : ∀ (i : grid0.Coords) (v13 : BitVec 32) (v468 : BitVec 32) (k0_hw283 : k0_chk283 i v13 v468), ∀ (k0_h5 : k0_cond5 i v13 = 1#1), 8 ∣ (k0_mult280 v468).toNat := fun i v13 v468 k0_hw283 k0_h5 => k0_hw283.1 k0_h5
theorem k0_off604_inb : ∀ (i : grid0.Coords) (v13 : BitVec 32) (v468 : BitVec 32) (k0_hw283 : k0_chk283 i v13 v468), ∀ (k0_h5 : k0_cond5 i v13 = 1#1), ∀ a, (k0_off604 v468) a + S8x128.size a ≤ S65536x128.size a := fun i v13 v468 k0_hw283 k0_h5 => k0_hw283.2.1 k0_h5
theorem k0_off605_inb : ∀ (i : grid0.Coords) (v13 : BitVec 32) (v468 : BitVec 32) (k0_hw283 : k0_chk283 i v13 v468), ∀ (k0_h5 : k0_cond5 i v13 = 1#1), ∀ a, (k0_off605 v468) a + S1x128.size a ≤ S8192x128.size a := fun i v13 v468 k0_hw283 k0_h5 => k0_hw283.2.2 k0_h5

def k0_off606 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c24_i32 : BitVec 32 := 24#32
  let v483 : BitVec 32 := Scalar.addi v74 c24_i32
  let v484 : Index := Scalar.indexCast v483
  ![v484.toNat]
def k0_mult281 (v485 : BitVec 32) : BitVec 32 :=
  let c3_i32_201 : BitVec 32 := 3#32
  let v486 : BitVec 32 := Scalar.shrsi v485 c3_i32_201
  let c8191_i32_202 : BitVec 32 := 8191#32
  let v487 : BitVec 32 := Scalar.andi v486 c8191_i32_202
  let c8_i32_203 : BitVec 32 := 8#32
  let v488 : BitVec 32 := Scalar.muli v487 c8_i32_203
  v488

def k0_off607 (v485 : BitVec 32) : Fin 2 → Nat :=
  let c3_i32_201 : BitVec 32 := 3#32
  let v486 : BitVec 32 := Scalar.shrsi v485 c3_i32_201
  let c8191_i32_202 : BitVec 32 := 8191#32
  let v487 : BitVec 32 := Scalar.andi v486 c8191_i32_202
  let c8_i32_203 : BitVec 32 := 8#32
  let v488 : BitVec 32 := Scalar.muli v487 c8_i32_203
  let v489 : BitVec 32 := v488
  let v490 : Index := Scalar.indexCast v489
  let c0_204 : Index := 0#32
  ![v490.toNat, 0]
def k0_off608 (v485 : BitVec 32) : Fin 2 → Nat :=
  let c3_i32_201 : BitVec 32 := 3#32
  let v486 : BitVec 32 := Scalar.shrsi v485 c3_i32_201
  let c8191_i32_202 : BitVec 32 := 8191#32
  let v487 : BitVec 32 := Scalar.andi v486 c8191_i32_202
  let v495 : Index := Scalar.indexCast v487
  let c0_206 : Index := 0#32
  ![v495.toNat, 0]

def k0_chk284 (i : grid0.Coords) (v13 : BitVec 32) (v485 : BitVec 32) : Prop :=
  (∀ (k0_h5 : k0_cond5 i v13 = 1#1), 8 ∣ (k0_mult281 v485).toNat) ∧
  (∀ (k0_h5 : k0_cond5 i v13 = 1#1), ∀ a, (k0_off607 v485) a + S8x128.size a ≤ S65536x128.size a) ∧
  (∀ (k0_h5 : k0_cond5 i v13 = 1#1), ∀ a, (k0_off608 v485) a + S1x128.size a ≤ S8192x128.size a)
theorem k0_mult281_dvd : ∀ (i : grid0.Coords) (v13 : BitVec 32) (v485 : BitVec 32) (k0_hw284 : k0_chk284 i v13 v485), ∀ (k0_h5 : k0_cond5 i v13 = 1#1), 8 ∣ (k0_mult281 v485).toNat := fun i v13 v485 k0_hw284 k0_h5 => k0_hw284.1 k0_h5
theorem k0_off607_inb : ∀ (i : grid0.Coords) (v13 : BitVec 32) (v485 : BitVec 32) (k0_hw284 : k0_chk284 i v13 v485), ∀ (k0_h5 : k0_cond5 i v13 = 1#1), ∀ a, (k0_off607 v485) a + S8x128.size a ≤ S65536x128.size a := fun i v13 v485 k0_hw284 k0_h5 => k0_hw284.2.1 k0_h5
theorem k0_off608_inb : ∀ (i : grid0.Coords) (v13 : BitVec 32) (v485 : BitVec 32) (k0_hw284 : k0_chk284 i v13 v485), ∀ (k0_h5 : k0_cond5 i v13 = 1#1), ∀ a, (k0_off608 v485) a + S1x128.size a ≤ S8192x128.size a := fun i v13 v485 k0_hw284 k0_h5 => k0_hw284.2.2 k0_h5

def k0_off609 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c25_i32 : BitVec 32 := 25#32
  let v500 : BitVec 32 := Scalar.addi v74 c25_i32
  let v501 : Index := Scalar.indexCast v500
  ![v501.toNat]
def k0_mult282 (v502 : BitVec 32) : BitVec 32 :=
  let c3_i32_209 : BitVec 32 := 3#32
  let v503 : BitVec 32 := Scalar.shrsi v502 c3_i32_209
  let c8191_i32_210 : BitVec 32 := 8191#32
  let v504 : BitVec 32 := Scalar.andi v503 c8191_i32_210
  let c8_i32_211 : BitVec 32 := 8#32
  let v505 : BitVec 32 := Scalar.muli v504 c8_i32_211
  v505

def k0_off610 (v502 : BitVec 32) : Fin 2 → Nat :=
  let c3_i32_209 : BitVec 32 := 3#32
  let v503 : BitVec 32 := Scalar.shrsi v502 c3_i32_209
  let c8191_i32_210 : BitVec 32 := 8191#32
  let v504 : BitVec 32 := Scalar.andi v503 c8191_i32_210
  let c8_i32_211 : BitVec 32 := 8#32
  let v505 : BitVec 32 := Scalar.muli v504 c8_i32_211
  let v506 : BitVec 32 := v505
  let v507 : Index := Scalar.indexCast v506
  let c0_212 : Index := 0#32
  ![v507.toNat, 0]
def k0_off611 (v502 : BitVec 32) : Fin 2 → Nat :=
  let c3_i32_209 : BitVec 32 := 3#32
  let v503 : BitVec 32 := Scalar.shrsi v502 c3_i32_209
  let c8191_i32_210 : BitVec 32 := 8191#32
  let v504 : BitVec 32 := Scalar.andi v503 c8191_i32_210
  let v512 : Index := Scalar.indexCast v504
  let c0_214 : Index := 0#32
  ![v512.toNat, 0]

def k0_chk285 (i : grid0.Coords) (v13 : BitVec 32) (v502 : BitVec 32) : Prop :=
  (∀ (k0_h5 : k0_cond5 i v13 = 1#1), 8 ∣ (k0_mult282 v502).toNat) ∧
  (∀ (k0_h5 : k0_cond5 i v13 = 1#1), ∀ a, (k0_off610 v502) a + S8x128.size a ≤ S65536x128.size a) ∧
  (∀ (k0_h5 : k0_cond5 i v13 = 1#1), ∀ a, (k0_off611 v502) a + S1x128.size a ≤ S8192x128.size a)
theorem k0_mult282_dvd : ∀ (i : grid0.Coords) (v13 : BitVec 32) (v502 : BitVec 32) (k0_hw285 : k0_chk285 i v13 v502), ∀ (k0_h5 : k0_cond5 i v13 = 1#1), 8 ∣ (k0_mult282 v502).toNat := fun i v13 v502 k0_hw285 k0_h5 => k0_hw285.1 k0_h5
theorem k0_off610_inb : ∀ (i : grid0.Coords) (v13 : BitVec 32) (v502 : BitVec 32) (k0_hw285 : k0_chk285 i v13 v502), ∀ (k0_h5 : k0_cond5 i v13 = 1#1), ∀ a, (k0_off610 v502) a + S8x128.size a ≤ S65536x128.size a := fun i v13 v502 k0_hw285 k0_h5 => k0_hw285.2.1 k0_h5
theorem k0_off611_inb : ∀ (i : grid0.Coords) (v13 : BitVec 32) (v502 : BitVec 32) (k0_hw285 : k0_chk285 i v13 v502), ∀ (k0_h5 : k0_cond5 i v13 = 1#1), ∀ a, (k0_off611 v502) a + S1x128.size a ≤ S8192x128.size a := fun i v13 v502 k0_hw285 k0_h5 => k0_hw285.2.2 k0_h5

def k0_off612 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c26_i32 : BitVec 32 := 26#32
  let v517 : BitVec 32 := Scalar.addi v74 c26_i32
  let v518 : Index := Scalar.indexCast v517
  ![v518.toNat]
def k0_mult283 (v519 : BitVec 32) : BitVec 32 :=
  let c3_i32_216 : BitVec 32 := 3#32
  let v520 : BitVec 32 := Scalar.shrsi v519 c3_i32_216
  let c8191_i32_217 : BitVec 32 := 8191#32
  let v521 : BitVec 32 := Scalar.andi v520 c8191_i32_217
  let c8_i32_218 : BitVec 32 := 8#32
  let v522 : BitVec 32 := Scalar.muli v521 c8_i32_218
  v522

def k0_off613 (v519 : BitVec 32) : Fin 2 → Nat :=
  let c3_i32_216 : BitVec 32 := 3#32
  let v520 : BitVec 32 := Scalar.shrsi v519 c3_i32_216
  let c8191_i32_217 : BitVec 32 := 8191#32
  let v521 : BitVec 32 := Scalar.andi v520 c8191_i32_217
  let c8_i32_218 : BitVec 32 := 8#32
  let v522 : BitVec 32 := Scalar.muli v521 c8_i32_218
  let v523 : BitVec 32 := v522
  let v524 : Index := Scalar.indexCast v523
  let c0_219 : Index := 0#32
  ![v524.toNat, 0]
def k0_off614 (v519 : BitVec 32) : Fin 2 → Nat :=
  let c3_i32_216 : BitVec 32 := 3#32
  let v520 : BitVec 32 := Scalar.shrsi v519 c3_i32_216
  let c8191_i32_217 : BitVec 32 := 8191#32
  let v521 : BitVec 32 := Scalar.andi v520 c8191_i32_217
  let v529 : Index := Scalar.indexCast v521
  let c0_221 : Index := 0#32
  ![v529.toNat, 0]

def k0_chk286 (i : grid0.Coords) (v13 : BitVec 32) (v519 : BitVec 32) : Prop :=
  (∀ (k0_h5 : k0_cond5 i v13 = 1#1), 8 ∣ (k0_mult283 v519).toNat) ∧
  (∀ (k0_h5 : k0_cond5 i v13 = 1#1), ∀ a, (k0_off613 v519) a + S8x128.size a ≤ S65536x128.size a) ∧
  (∀ (k0_h5 : k0_cond5 i v13 = 1#1), ∀ a, (k0_off614 v519) a + S1x128.size a ≤ S8192x128.size a)
theorem k0_mult283_dvd : ∀ (i : grid0.Coords) (v13 : BitVec 32) (v519 : BitVec 32) (k0_hw286 : k0_chk286 i v13 v519), ∀ (k0_h5 : k0_cond5 i v13 = 1#1), 8 ∣ (k0_mult283 v519).toNat := fun i v13 v519 k0_hw286 k0_h5 => k0_hw286.1 k0_h5
theorem k0_off613_inb : ∀ (i : grid0.Coords) (v13 : BitVec 32) (v519 : BitVec 32) (k0_hw286 : k0_chk286 i v13 v519), ∀ (k0_h5 : k0_cond5 i v13 = 1#1), ∀ a, (k0_off613 v519) a + S8x128.size a ≤ S65536x128.size a := fun i v13 v519 k0_hw286 k0_h5 => k0_hw286.2.1 k0_h5
theorem k0_off614_inb : ∀ (i : grid0.Coords) (v13 : BitVec 32) (v519 : BitVec 32) (k0_hw286 : k0_chk286 i v13 v519), ∀ (k0_h5 : k0_cond5 i v13 = 1#1), ∀ a, (k0_off614 v519) a + S1x128.size a ≤ S8192x128.size a := fun i v13 v519 k0_hw286 k0_h5 => k0_hw286.2.2 k0_h5

def k0_off615 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c27_i32 : BitVec 32 := 27#32
  let v534 : BitVec 32 := Scalar.addi v74 c27_i32
  let v535 : Index := Scalar.indexCast v534
  ![v535.toNat]
def k0_mult284 (v536 : BitVec 32) : BitVec 32 :=
  let c3_i32_223 : BitVec 32 := 3#32
  let v537 : BitVec 32 := Scalar.shrsi v536 c3_i32_223
  let c8191_i32_224 : BitVec 32 := 8191#32
  let v538 : BitVec 32 := Scalar.andi v537 c8191_i32_224
  let c8_i32_225 : BitVec 32 := 8#32
  let v539 : BitVec 32 := Scalar.muli v538 c8_i32_225
  v539

def k0_off616 (v536 : BitVec 32) : Fin 2 → Nat :=
  let c3_i32_223 : BitVec 32 := 3#32
  let v537 : BitVec 32 := Scalar.shrsi v536 c3_i32_223
  let c8191_i32_224 : BitVec 32 := 8191#32
  let v538 : BitVec 32 := Scalar.andi v537 c8191_i32_224
  let c8_i32_225 : BitVec 32 := 8#32
  let v539 : BitVec 32 := Scalar.muli v538 c8_i32_225
  let v540 : BitVec 32 := v539
  let v541 : Index := Scalar.indexCast v540
  let c0_226 : Index := 0#32
  ![v541.toNat, 0]
def k0_off617 (v536 : BitVec 32) : Fin 2 → Nat :=
  let c3_i32_223 : BitVec 32 := 3#32
  let v537 : BitVec 32 := Scalar.shrsi v536 c3_i32_223
  let c8191_i32_224 : BitVec 32 := 8191#32
  let v538 : BitVec 32 := Scalar.andi v537 c8191_i32_224
  let v546 : Index := Scalar.indexCast v538
  let c0_228 : Index := 0#32
  ![v546.toNat, 0]

def k0_chk287 (i : grid0.Coords) (v13 : BitVec 32) (v536 : BitVec 32) : Prop :=
  (∀ (k0_h5 : k0_cond5 i v13 = 1#1), 8 ∣ (k0_mult284 v536).toNat) ∧
  (∀ (k0_h5 : k0_cond5 i v13 = 1#1), ∀ a, (k0_off616 v536) a + S8x128.size a ≤ S65536x128.size a) ∧
  (∀ (k0_h5 : k0_cond5 i v13 = 1#1), ∀ a, (k0_off617 v536) a + S1x128.size a ≤ S8192x128.size a)
theorem k0_mult284_dvd : ∀ (i : grid0.Coords) (v13 : BitVec 32) (v536 : BitVec 32) (k0_hw287 : k0_chk287 i v13 v536), ∀ (k0_h5 : k0_cond5 i v13 = 1#1), 8 ∣ (k0_mult284 v536).toNat := fun i v13 v536 k0_hw287 k0_h5 => k0_hw287.1 k0_h5
theorem k0_off616_inb : ∀ (i : grid0.Coords) (v13 : BitVec 32) (v536 : BitVec 32) (k0_hw287 : k0_chk287 i v13 v536), ∀ (k0_h5 : k0_cond5 i v13 = 1#1), ∀ a, (k0_off616 v536) a + S8x128.size a ≤ S65536x128.size a := fun i v13 v536 k0_hw287 k0_h5 => k0_hw287.2.1 k0_h5
theorem k0_off617_inb : ∀ (i : grid0.Coords) (v13 : BitVec 32) (v536 : BitVec 32) (k0_hw287 : k0_chk287 i v13 v536), ∀ (k0_h5 : k0_cond5 i v13 = 1#1), ∀ a, (k0_off617 v536) a + S1x128.size a ≤ S8192x128.size a := fun i v13 v536 k0_hw287 k0_h5 => k0_hw287.2.2 k0_h5

def k0_off618 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c28_i32 : BitVec 32 := 28#32
  let v551 : BitVec 32 := Scalar.addi v74 c28_i32
  let v552 : Index := Scalar.indexCast v551
  ![v552.toNat]
def k0_mult285 (v553 : BitVec 32) : BitVec 32 :=
  let c3_i32_230 : BitVec 32 := 3#32
  let v554 : BitVec 32 := Scalar.shrsi v553 c3_i32_230
  let c8191_i32_231 : BitVec 32 := 8191#32
  let v555 : BitVec 32 := Scalar.andi v554 c8191_i32_231
  let c8_i32_232 : BitVec 32 := 8#32
  let v556 : BitVec 32 := Scalar.muli v555 c8_i32_232
  v556

def k0_off619 (v553 : BitVec 32) : Fin 2 → Nat :=
  let c3_i32_230 : BitVec 32 := 3#32
  let v554 : BitVec 32 := Scalar.shrsi v553 c3_i32_230
  let c8191_i32_231 : BitVec 32 := 8191#32
  let v555 : BitVec 32 := Scalar.andi v554 c8191_i32_231
  let c8_i32_232 : BitVec 32 := 8#32
  let v556 : BitVec 32 := Scalar.muli v555 c8_i32_232
  let v557 : BitVec 32 := v556
  let v558 : Index := Scalar.indexCast v557
  let c0_233 : Index := 0#32
  ![v558.toNat, 0]
def k0_off620 (v553 : BitVec 32) : Fin 2 → Nat :=
  let c3_i32_230 : BitVec 32 := 3#32
  let v554 : BitVec 32 := Scalar.shrsi v553 c3_i32_230
  let c8191_i32_231 : BitVec 32 := 8191#32
  let v555 : BitVec 32 := Scalar.andi v554 c8191_i32_231
  let v563 : Index := Scalar.indexCast v555
  let c0_235 : Index := 0#32
  ![v563.toNat, 0]

def k0_chk288 (i : grid0.Coords) (v13 : BitVec 32) (v553 : BitVec 32) : Prop :=
  (∀ (k0_h5 : k0_cond5 i v13 = 1#1), 8 ∣ (k0_mult285 v553).toNat) ∧
  (∀ (k0_h5 : k0_cond5 i v13 = 1#1), ∀ a, (k0_off619 v553) a + S8x128.size a ≤ S65536x128.size a) ∧
  (∀ (k0_h5 : k0_cond5 i v13 = 1#1), ∀ a, (k0_off620 v553) a + S1x128.size a ≤ S8192x128.size a)
theorem k0_mult285_dvd : ∀ (i : grid0.Coords) (v13 : BitVec 32) (v553 : BitVec 32) (k0_hw288 : k0_chk288 i v13 v553), ∀ (k0_h5 : k0_cond5 i v13 = 1#1), 8 ∣ (k0_mult285 v553).toNat := fun i v13 v553 k0_hw288 k0_h5 => k0_hw288.1 k0_h5
theorem k0_off619_inb : ∀ (i : grid0.Coords) (v13 : BitVec 32) (v553 : BitVec 32) (k0_hw288 : k0_chk288 i v13 v553), ∀ (k0_h5 : k0_cond5 i v13 = 1#1), ∀ a, (k0_off619 v553) a + S8x128.size a ≤ S65536x128.size a := fun i v13 v553 k0_hw288 k0_h5 => k0_hw288.2.1 k0_h5
theorem k0_off620_inb : ∀ (i : grid0.Coords) (v13 : BitVec 32) (v553 : BitVec 32) (k0_hw288 : k0_chk288 i v13 v553), ∀ (k0_h5 : k0_cond5 i v13 = 1#1), ∀ a, (k0_off620 v553) a + S1x128.size a ≤ S8192x128.size a := fun i v13 v553 k0_hw288 k0_h5 => k0_hw288.2.2 k0_h5

def k0_off621 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c29_i32 : BitVec 32 := 29#32
  let v568 : BitVec 32 := Scalar.addi v74 c29_i32
  let v569 : Index := Scalar.indexCast v568
  ![v569.toNat]
def k0_mult286 (v570 : BitVec 32) : BitVec 32 :=
  let c3_i32_237 : BitVec 32 := 3#32
  let v571 : BitVec 32 := Scalar.shrsi v570 c3_i32_237
  let c8191_i32_238 : BitVec 32 := 8191#32
  let v572 : BitVec 32 := Scalar.andi v571 c8191_i32_238
  let c8_i32_239 : BitVec 32 := 8#32
  let v573 : BitVec 32 := Scalar.muli v572 c8_i32_239
  v573

def k0_off622 (v570 : BitVec 32) : Fin 2 → Nat :=
  let c3_i32_237 : BitVec 32 := 3#32
  let v571 : BitVec 32 := Scalar.shrsi v570 c3_i32_237
  let c8191_i32_238 : BitVec 32 := 8191#32
  let v572 : BitVec 32 := Scalar.andi v571 c8191_i32_238
  let c8_i32_239 : BitVec 32 := 8#32
  let v573 : BitVec 32 := Scalar.muli v572 c8_i32_239
  let v574 : BitVec 32 := v573
  let v575 : Index := Scalar.indexCast v574
  let c0_240 : Index := 0#32
  ![v575.toNat, 0]
def k0_off623 (v570 : BitVec 32) : Fin 2 → Nat :=
  let c3_i32_237 : BitVec 32 := 3#32
  let v571 : BitVec 32 := Scalar.shrsi v570 c3_i32_237
  let c8191_i32_238 : BitVec 32 := 8191#32
  let v572 : BitVec 32 := Scalar.andi v571 c8191_i32_238
  let v580 : Index := Scalar.indexCast v572
  let c0_242 : Index := 0#32
  ![v580.toNat, 0]

def k0_chk289 (i : grid0.Coords) (v13 : BitVec 32) (v570 : BitVec 32) : Prop :=
  (∀ (k0_h5 : k0_cond5 i v13 = 1#1), 8 ∣ (k0_mult286 v570).toNat) ∧
  (∀ (k0_h5 : k0_cond5 i v13 = 1#1), ∀ a, (k0_off622 v570) a + S8x128.size a ≤ S65536x128.size a) ∧
  (∀ (k0_h5 : k0_cond5 i v13 = 1#1), ∀ a, (k0_off623 v570) a + S1x128.size a ≤ S8192x128.size a)
theorem k0_mult286_dvd : ∀ (i : grid0.Coords) (v13 : BitVec 32) (v570 : BitVec 32) (k0_hw289 : k0_chk289 i v13 v570), ∀ (k0_h5 : k0_cond5 i v13 = 1#1), 8 ∣ (k0_mult286 v570).toNat := fun i v13 v570 k0_hw289 k0_h5 => k0_hw289.1 k0_h5
theorem k0_off622_inb : ∀ (i : grid0.Coords) (v13 : BitVec 32) (v570 : BitVec 32) (k0_hw289 : k0_chk289 i v13 v570), ∀ (k0_h5 : k0_cond5 i v13 = 1#1), ∀ a, (k0_off622 v570) a + S8x128.size a ≤ S65536x128.size a := fun i v13 v570 k0_hw289 k0_h5 => k0_hw289.2.1 k0_h5
theorem k0_off623_inb : ∀ (i : grid0.Coords) (v13 : BitVec 32) (v570 : BitVec 32) (k0_hw289 : k0_chk289 i v13 v570), ∀ (k0_h5 : k0_cond5 i v13 = 1#1), ∀ a, (k0_off623 v570) a + S1x128.size a ≤ S8192x128.size a := fun i v13 v570 k0_hw289 k0_h5 => k0_hw289.2.2 k0_h5

def k0_off624 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c30_i32 : BitVec 32 := 30#32
  let v585 : BitVec 32 := Scalar.addi v74 c30_i32
  let v586 : Index := Scalar.indexCast v585
  ![v586.toNat]
def k0_mult287 (v587 : BitVec 32) : BitVec 32 :=
  let c3_i32_244 : BitVec 32 := 3#32
  let v588 : BitVec 32 := Scalar.shrsi v587 c3_i32_244
  let c8191_i32_245 : BitVec 32 := 8191#32
  let v589 : BitVec 32 := Scalar.andi v588 c8191_i32_245
  let c8_i32_246 : BitVec 32 := 8#32
  let v590 : BitVec 32 := Scalar.muli v589 c8_i32_246
  v590

def k0_off625 (v587 : BitVec 32) : Fin 2 → Nat :=
  let c3_i32_244 : BitVec 32 := 3#32
  let v588 : BitVec 32 := Scalar.shrsi v587 c3_i32_244
  let c8191_i32_245 : BitVec 32 := 8191#32
  let v589 : BitVec 32 := Scalar.andi v588 c8191_i32_245
  let c8_i32_246 : BitVec 32 := 8#32
  let v590 : BitVec 32 := Scalar.muli v589 c8_i32_246
  let v591 : BitVec 32 := v590
  let v592 : Index := Scalar.indexCast v591
  let c0_247 : Index := 0#32
  ![v592.toNat, 0]
def k0_off626 (v587 : BitVec 32) : Fin 2 → Nat :=
  let c3_i32_244 : BitVec 32 := 3#32
  let v588 : BitVec 32 := Scalar.shrsi v587 c3_i32_244
  let c8191_i32_245 : BitVec 32 := 8191#32
  let v589 : BitVec 32 := Scalar.andi v588 c8191_i32_245
  let v597 : Index := Scalar.indexCast v589
  let c0_249 : Index := 0#32
  ![v597.toNat, 0]

def k0_chk290 (i : grid0.Coords) (v13 : BitVec 32) (v587 : BitVec 32) : Prop :=
  (∀ (k0_h5 : k0_cond5 i v13 = 1#1), 8 ∣ (k0_mult287 v587).toNat) ∧
  (∀ (k0_h5 : k0_cond5 i v13 = 1#1), ∀ a, (k0_off625 v587) a + S8x128.size a ≤ S65536x128.size a) ∧
  (∀ (k0_h5 : k0_cond5 i v13 = 1#1), ∀ a, (k0_off626 v587) a + S1x128.size a ≤ S8192x128.size a)
theorem k0_mult287_dvd : ∀ (i : grid0.Coords) (v13 : BitVec 32) (v587 : BitVec 32) (k0_hw290 : k0_chk290 i v13 v587), ∀ (k0_h5 : k0_cond5 i v13 = 1#1), 8 ∣ (k0_mult287 v587).toNat := fun i v13 v587 k0_hw290 k0_h5 => k0_hw290.1 k0_h5
theorem k0_off625_inb : ∀ (i : grid0.Coords) (v13 : BitVec 32) (v587 : BitVec 32) (k0_hw290 : k0_chk290 i v13 v587), ∀ (k0_h5 : k0_cond5 i v13 = 1#1), ∀ a, (k0_off625 v587) a + S8x128.size a ≤ S65536x128.size a := fun i v13 v587 k0_hw290 k0_h5 => k0_hw290.2.1 k0_h5
theorem k0_off626_inb : ∀ (i : grid0.Coords) (v13 : BitVec 32) (v587 : BitVec 32) (k0_hw290 : k0_chk290 i v13 v587), ∀ (k0_h5 : k0_cond5 i v13 = 1#1), ∀ a, (k0_off626 v587) a + S1x128.size a ≤ S8192x128.size a := fun i v13 v587 k0_hw290 k0_h5 => k0_hw290.2.2 k0_h5

def k0_off627 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c31_i32 : BitVec 32 := 31#32
  let v602 : BitVec 32 := Scalar.addi v74 c31_i32
  let v603 : Index := Scalar.indexCast v602
  ![v603.toNat]
def k0_mult288 (v604 : BitVec 32) : BitVec 32 :=
  let c3_i32_251 : BitVec 32 := 3#32
  let v605 : BitVec 32 := Scalar.shrsi v604 c3_i32_251
  let c8191_i32_252 : BitVec 32 := 8191#32
  let v606 : BitVec 32 := Scalar.andi v605 c8191_i32_252
  let c8_i32_253 : BitVec 32 := 8#32
  let v607 : BitVec 32 := Scalar.muli v606 c8_i32_253
  v607

def k0_off628 (v604 : BitVec 32) : Fin 2 → Nat :=
  let c3_i32_251 : BitVec 32 := 3#32
  let v605 : BitVec 32 := Scalar.shrsi v604 c3_i32_251
  let c8191_i32_252 : BitVec 32 := 8191#32
  let v606 : BitVec 32 := Scalar.andi v605 c8191_i32_252
  let c8_i32_253 : BitVec 32 := 8#32
  let v607 : BitVec 32 := Scalar.muli v606 c8_i32_253
  let v608 : BitVec 32 := v607
  let v609 : Index := Scalar.indexCast v608
  let c0_254 : Index := 0#32
  ![v609.toNat, 0]
def k0_off629 (v604 : BitVec 32) : Fin 2 → Nat :=
  let c3_i32_251 : BitVec 32 := 3#32
  let v605 : BitVec 32 := Scalar.shrsi v604 c3_i32_251
  let c8191_i32_252 : BitVec 32 := 8191#32
  let v606 : BitVec 32 := Scalar.andi v605 c8191_i32_252
  let v614 : Index := Scalar.indexCast v606
  let c0_256 : Index := 0#32
  ![v614.toNat, 0]

def k0_chk291 (i : grid0.Coords) (v13 : BitVec 32) (v604 : BitVec 32) : Prop :=
  (∀ (k0_h5 : k0_cond5 i v13 = 1#1), 8 ∣ (k0_mult288 v604).toNat) ∧
  (∀ (k0_h5 : k0_cond5 i v13 = 1#1), ∀ a, (k0_off628 v604) a + S8x128.size a ≤ S65536x128.size a) ∧
  (∀ (k0_h5 : k0_cond5 i v13 = 1#1), ∀ a, (k0_off629 v604) a + S1x128.size a ≤ S8192x128.size a)
theorem k0_mult288_dvd : ∀ (i : grid0.Coords) (v13 : BitVec 32) (v604 : BitVec 32) (k0_hw291 : k0_chk291 i v13 v604), ∀ (k0_h5 : k0_cond5 i v13 = 1#1), 8 ∣ (k0_mult288 v604).toNat := fun i v13 v604 k0_hw291 k0_h5 => k0_hw291.1 k0_h5
theorem k0_off628_inb : ∀ (i : grid0.Coords) (v13 : BitVec 32) (v604 : BitVec 32) (k0_hw291 : k0_chk291 i v13 v604), ∀ (k0_h5 : k0_cond5 i v13 = 1#1), ∀ a, (k0_off628 v604) a + S8x128.size a ≤ S65536x128.size a := fun i v13 v604 k0_hw291 k0_h5 => k0_hw291.2.1 k0_h5
theorem k0_off629_inb : ∀ (i : grid0.Coords) (v13 : BitVec 32) (v604 : BitVec 32) (k0_hw291 : k0_chk291 i v13 v604), ∀ (k0_h5 : k0_cond5 i v13 = 1#1), ∀ a, (k0_off629 v604) a + S1x128.size a ≤ S8192x128.size a := fun i v13 v604 k0_hw291 k0_h5 => k0_hw291.2.2 k0_h5

def k0_off630 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c32_i32 : BitVec 32 := 32#32
  let v619 : BitVec 32 := Scalar.addi v74 c32_i32
  let v620 : Index := Scalar.indexCast v619
  ![v620.toNat]
def k0_mult289 (v621 : BitVec 32) : BitVec 32 :=
  let c3_i32_258 : BitVec 32 := 3#32
  let v622 : BitVec 32 := Scalar.shrsi v621 c3_i32_258
  let c8191_i32_259 : BitVec 32 := 8191#32
  let v623 : BitVec 32 := Scalar.andi v622 c8191_i32_259
  let c8_i32_260 : BitVec 32 := 8#32
  let v624 : BitVec 32 := Scalar.muli v623 c8_i32_260
  v624

def k0_off631 (v621 : BitVec 32) : Fin 2 → Nat :=
  let c3_i32_258 : BitVec 32 := 3#32
  let v622 : BitVec 32 := Scalar.shrsi v621 c3_i32_258
  let c8191_i32_259 : BitVec 32 := 8191#32
  let v623 : BitVec 32 := Scalar.andi v622 c8191_i32_259
  let c8_i32_260 : BitVec 32 := 8#32
  let v624 : BitVec 32 := Scalar.muli v623 c8_i32_260
  let v625 : BitVec 32 := v624
  let v626 : Index := Scalar.indexCast v625
  let c0_261 : Index := 0#32
  ![v626.toNat, 0]
def k0_off632 (v621 : BitVec 32) : Fin 2 → Nat :=
  let c3_i32_258 : BitVec 32 := 3#32
  let v622 : BitVec 32 := Scalar.shrsi v621 c3_i32_258
  let c8191_i32_259 : BitVec 32 := 8191#32
  let v623 : BitVec 32 := Scalar.andi v622 c8191_i32_259
  let v631 : Index := Scalar.indexCast v623
  let c0_263 : Index := 0#32
  ![v631.toNat, 0]

def k0_chk292 (i : grid0.Coords) (v13 : BitVec 32) (v621 : BitVec 32) : Prop :=
  (∀ (k0_h5 : k0_cond5 i v13 = 1#1), 8 ∣ (k0_mult289 v621).toNat) ∧
  (∀ (k0_h5 : k0_cond5 i v13 = 1#1), ∀ a, (k0_off631 v621) a + S8x128.size a ≤ S65536x128.size a) ∧
  (∀ (k0_h5 : k0_cond5 i v13 = 1#1), ∀ a, (k0_off632 v621) a + S1x128.size a ≤ S8192x128.size a)
theorem k0_mult289_dvd : ∀ (i : grid0.Coords) (v13 : BitVec 32) (v621 : BitVec 32) (k0_hw292 : k0_chk292 i v13 v621), ∀ (k0_h5 : k0_cond5 i v13 = 1#1), 8 ∣ (k0_mult289 v621).toNat := fun i v13 v621 k0_hw292 k0_h5 => k0_hw292.1 k0_h5
theorem k0_off631_inb : ∀ (i : grid0.Coords) (v13 : BitVec 32) (v621 : BitVec 32) (k0_hw292 : k0_chk292 i v13 v621), ∀ (k0_h5 : k0_cond5 i v13 = 1#1), ∀ a, (k0_off631 v621) a + S8x128.size a ≤ S65536x128.size a := fun i v13 v621 k0_hw292 k0_h5 => k0_hw292.2.1 k0_h5
theorem k0_off632_inb : ∀ (i : grid0.Coords) (v13 : BitVec 32) (v621 : BitVec 32) (k0_hw292 : k0_chk292 i v13 v621), ∀ (k0_h5 : k0_cond5 i v13 = 1#1), ∀ a, (k0_off632 v621) a + S1x128.size a ≤ S8192x128.size a := fun i v13 v621 k0_hw292 k0_h5 => k0_hw292.2.2 k0_h5

def k0_off633 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c33_i32 : BitVec 32 := 33#32
  let v636 : BitVec 32 := Scalar.addi v74 c33_i32
  let v637 : Index := Scalar.indexCast v636
  ![v637.toNat]
def k0_mult290 (v638 : BitVec 32) : BitVec 32 :=
  let c3_i32_266 : BitVec 32 := 3#32
  let v639 : BitVec 32 := Scalar.shrsi v638 c3_i32_266
  let c8191_i32_267 : BitVec 32 := 8191#32
  let v640 : BitVec 32 := Scalar.andi v639 c8191_i32_267
  let c8_i32_268 : BitVec 32 := 8#32
  let v641 : BitVec 32 := Scalar.muli v640 c8_i32_268
  v641

def k0_off634 (v638 : BitVec 32) : Fin 2 → Nat :=
  let c3_i32_266 : BitVec 32 := 3#32
  let v639 : BitVec 32 := Scalar.shrsi v638 c3_i32_266
  let c8191_i32_267 : BitVec 32 := 8191#32
  let v640 : BitVec 32 := Scalar.andi v639 c8191_i32_267
  let c8_i32_268 : BitVec 32 := 8#32
  let v641 : BitVec 32 := Scalar.muli v640 c8_i32_268
  let v642 : BitVec 32 := v641
  let v643 : Index := Scalar.indexCast v642
  let c0_269 : Index := 0#32
  ![v643.toNat, 0]
def k0_off635 (v638 : BitVec 32) : Fin 2 → Nat :=
  let c3_i32_266 : BitVec 32 := 3#32
  let v639 : BitVec 32 := Scalar.shrsi v638 c3_i32_266
  let c8191_i32_267 : BitVec 32 := 8191#32
  let v640 : BitVec 32 := Scalar.andi v639 c8191_i32_267
  let v648 : Index := Scalar.indexCast v640
  let c0_271 : Index := 0#32
  ![v648.toNat, 0]

def k0_chk293 (i : grid0.Coords) (v13 : BitVec 32) (v638 : BitVec 32) : Prop :=
  (∀ (k0_h5 : k0_cond5 i v13 = 1#1), 8 ∣ (k0_mult290 v638).toNat) ∧
  (∀ (k0_h5 : k0_cond5 i v13 = 1#1), ∀ a, (k0_off634 v638) a + S8x128.size a ≤ S65536x128.size a) ∧
  (∀ (k0_h5 : k0_cond5 i v13 = 1#1), ∀ a, (k0_off635 v638) a + S1x128.size a ≤ S8192x128.size a)
theorem k0_mult290_dvd : ∀ (i : grid0.Coords) (v13 : BitVec 32) (v638 : BitVec 32) (k0_hw293 : k0_chk293 i v13 v638), ∀ (k0_h5 : k0_cond5 i v13 = 1#1), 8 ∣ (k0_mult290 v638).toNat := fun i v13 v638 k0_hw293 k0_h5 => k0_hw293.1 k0_h5
theorem k0_off634_inb : ∀ (i : grid0.Coords) (v13 : BitVec 32) (v638 : BitVec 32) (k0_hw293 : k0_chk293 i v13 v638), ∀ (k0_h5 : k0_cond5 i v13 = 1#1), ∀ a, (k0_off634 v638) a + S8x128.size a ≤ S65536x128.size a := fun i v13 v638 k0_hw293 k0_h5 => k0_hw293.2.1 k0_h5
theorem k0_off635_inb : ∀ (i : grid0.Coords) (v13 : BitVec 32) (v638 : BitVec 32) (k0_hw293 : k0_chk293 i v13 v638), ∀ (k0_h5 : k0_cond5 i v13 = 1#1), ∀ a, (k0_off635 v638) a + S1x128.size a ≤ S8192x128.size a := fun i v13 v638 k0_hw293 k0_h5 => k0_hw293.2.2 k0_h5

def k0_off636 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c34_i32 : BitVec 32 := 34#32
  let v653 : BitVec 32 := Scalar.addi v74 c34_i32
  let v654 : Index := Scalar.indexCast v653
  ![v654.toNat]
def k0_mult291 (v655 : BitVec 32) : BitVec 32 :=
  let c3_i32_273 : BitVec 32 := 3#32
  let v656 : BitVec 32 := Scalar.shrsi v655 c3_i32_273
  let c8191_i32_274 : BitVec 32 := 8191#32
  let v657 : BitVec 32 := Scalar.andi v656 c8191_i32_274
  let c8_i32_275 : BitVec 32 := 8#32
  let v658 : BitVec 32 := Scalar.muli v657 c8_i32_275
  v658

def k0_off637 (v655 : BitVec 32) : Fin 2 → Nat :=
  let c3_i32_273 : BitVec 32 := 3#32
  let v656 : BitVec 32 := Scalar.shrsi v655 c3_i32_273
  let c8191_i32_274 : BitVec 32 := 8191#32
  let v657 : BitVec 32 := Scalar.andi v656 c8191_i32_274
  let c8_i32_275 : BitVec 32 := 8#32
  let v658 : BitVec 32 := Scalar.muli v657 c8_i32_275
  let v659 : BitVec 32 := v658
  let v660 : Index := Scalar.indexCast v659
  let c0_276 : Index := 0#32
  ![v660.toNat, 0]
def k0_off638 (v655 : BitVec 32) : Fin 2 → Nat :=
  let c3_i32_273 : BitVec 32 := 3#32
  let v656 : BitVec 32 := Scalar.shrsi v655 c3_i32_273
  let c8191_i32_274 : BitVec 32 := 8191#32
  let v657 : BitVec 32 := Scalar.andi v656 c8191_i32_274
  let v665 : Index := Scalar.indexCast v657
  let c0_278 : Index := 0#32
  ![v665.toNat, 0]

def k0_chk294 (i : grid0.Coords) (v13 : BitVec 32) (v655 : BitVec 32) : Prop :=
  (∀ (k0_h5 : k0_cond5 i v13 = 1#1), 8 ∣ (k0_mult291 v655).toNat) ∧
  (∀ (k0_h5 : k0_cond5 i v13 = 1#1), ∀ a, (k0_off637 v655) a + S8x128.size a ≤ S65536x128.size a) ∧
  (∀ (k0_h5 : k0_cond5 i v13 = 1#1), ∀ a, (k0_off638 v655) a + S1x128.size a ≤ S8192x128.size a)
theorem k0_mult291_dvd : ∀ (i : grid0.Coords) (v13 : BitVec 32) (v655 : BitVec 32) (k0_hw294 : k0_chk294 i v13 v655), ∀ (k0_h5 : k0_cond5 i v13 = 1#1), 8 ∣ (k0_mult291 v655).toNat := fun i v13 v655 k0_hw294 k0_h5 => k0_hw294.1 k0_h5
theorem k0_off637_inb : ∀ (i : grid0.Coords) (v13 : BitVec 32) (v655 : BitVec 32) (k0_hw294 : k0_chk294 i v13 v655), ∀ (k0_h5 : k0_cond5 i v13 = 1#1), ∀ a, (k0_off637 v655) a + S8x128.size a ≤ S65536x128.size a := fun i v13 v655 k0_hw294 k0_h5 => k0_hw294.2.1 k0_h5
theorem k0_off638_inb : ∀ (i : grid0.Coords) (v13 : BitVec 32) (v655 : BitVec 32) (k0_hw294 : k0_chk294 i v13 v655), ∀ (k0_h5 : k0_cond5 i v13 = 1#1), ∀ a, (k0_off638 v655) a + S1x128.size a ≤ S8192x128.size a := fun i v13 v655 k0_hw294 k0_h5 => k0_hw294.2.2 k0_h5

def k0_off639 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c35_i32 : BitVec 32 := 35#32
  let v670 : BitVec 32 := Scalar.addi v74 c35_i32
  let v671 : Index := Scalar.indexCast v670
  ![v671.toNat]
def k0_mult292 (v672 : BitVec 32) : BitVec 32 :=
  let c3_i32_280 : BitVec 32 := 3#32
  let v673 : BitVec 32 := Scalar.shrsi v672 c3_i32_280
  let c8191_i32_281 : BitVec 32 := 8191#32
  let v674 : BitVec 32 := Scalar.andi v673 c8191_i32_281
  let c8_i32_282 : BitVec 32 := 8#32
  let v675 : BitVec 32 := Scalar.muli v674 c8_i32_282
  v675

def k0_off640 (v672 : BitVec 32) : Fin 2 → Nat :=
  let c3_i32_280 : BitVec 32 := 3#32
  let v673 : BitVec 32 := Scalar.shrsi v672 c3_i32_280
  let c8191_i32_281 : BitVec 32 := 8191#32
  let v674 : BitVec 32 := Scalar.andi v673 c8191_i32_281
  let c8_i32_282 : BitVec 32 := 8#32
  let v675 : BitVec 32 := Scalar.muli v674 c8_i32_282
  let v676 : BitVec 32 := v675
  let v677 : Index := Scalar.indexCast v676
  let c0_283 : Index := 0#32
  ![v677.toNat, 0]
def k0_off641 (v672 : BitVec 32) : Fin 2 → Nat :=
  let c3_i32_280 : BitVec 32 := 3#32
  let v673 : BitVec 32 := Scalar.shrsi v672 c3_i32_280
  let c8191_i32_281 : BitVec 32 := 8191#32
  let v674 : BitVec 32 := Scalar.andi v673 c8191_i32_281
  let v682 : Index := Scalar.indexCast v674
  let c0_285 : Index := 0#32
  ![v682.toNat, 0]

def k0_chk295 (i : grid0.Coords) (v13 : BitVec 32) (v672 : BitVec 32) : Prop :=
  (∀ (k0_h5 : k0_cond5 i v13 = 1#1), 8 ∣ (k0_mult292 v672).toNat) ∧
  (∀ (k0_h5 : k0_cond5 i v13 = 1#1), ∀ a, (k0_off640 v672) a + S8x128.size a ≤ S65536x128.size a) ∧
  (∀ (k0_h5 : k0_cond5 i v13 = 1#1), ∀ a, (k0_off641 v672) a + S1x128.size a ≤ S8192x128.size a)
theorem k0_mult292_dvd : ∀ (i : grid0.Coords) (v13 : BitVec 32) (v672 : BitVec 32) (k0_hw295 : k0_chk295 i v13 v672), ∀ (k0_h5 : k0_cond5 i v13 = 1#1), 8 ∣ (k0_mult292 v672).toNat := fun i v13 v672 k0_hw295 k0_h5 => k0_hw295.1 k0_h5
theorem k0_off640_inb : ∀ (i : grid0.Coords) (v13 : BitVec 32) (v672 : BitVec 32) (k0_hw295 : k0_chk295 i v13 v672), ∀ (k0_h5 : k0_cond5 i v13 = 1#1), ∀ a, (k0_off640 v672) a + S8x128.size a ≤ S65536x128.size a := fun i v13 v672 k0_hw295 k0_h5 => k0_hw295.2.1 k0_h5
theorem k0_off641_inb : ∀ (i : grid0.Coords) (v13 : BitVec 32) (v672 : BitVec 32) (k0_hw295 : k0_chk295 i v13 v672), ∀ (k0_h5 : k0_cond5 i v13 = 1#1), ∀ a, (k0_off641 v672) a + S1x128.size a ≤ S8192x128.size a := fun i v13 v672 k0_hw295 k0_h5 => k0_hw295.2.2 k0_h5

def k0_off642 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c36_i32 : BitVec 32 := 36#32
  let v687 : BitVec 32 := Scalar.addi v74 c36_i32
  let v688 : Index := Scalar.indexCast v687
  ![v688.toNat]
def k0_mult293 (v689 : BitVec 32) : BitVec 32 :=
  let c3_i32_287 : BitVec 32 := 3#32
  let v690 : BitVec 32 := Scalar.shrsi v689 c3_i32_287
  let c8191_i32_288 : BitVec 32 := 8191#32
  let v691 : BitVec 32 := Scalar.andi v690 c8191_i32_288
  let c8_i32_289 : BitVec 32 := 8#32
  let v692 : BitVec 32 := Scalar.muli v691 c8_i32_289
  v692

def k0_off643 (v689 : BitVec 32) : Fin 2 → Nat :=
  let c3_i32_287 : BitVec 32 := 3#32
  let v690 : BitVec 32 := Scalar.shrsi v689 c3_i32_287
  let c8191_i32_288 : BitVec 32 := 8191#32
  let v691 : BitVec 32 := Scalar.andi v690 c8191_i32_288
  let c8_i32_289 : BitVec 32 := 8#32
  let v692 : BitVec 32 := Scalar.muli v691 c8_i32_289
  let v693 : BitVec 32 := v692
  let v694 : Index := Scalar.indexCast v693
  let c0_290 : Index := 0#32
  ![v694.toNat, 0]
def k0_off644 (v689 : BitVec 32) : Fin 2 → Nat :=
  let c3_i32_287 : BitVec 32 := 3#32
  let v690 : BitVec 32 := Scalar.shrsi v689 c3_i32_287
  let c8191_i32_288 : BitVec 32 := 8191#32
  let v691 : BitVec 32 := Scalar.andi v690 c8191_i32_288
  let v699 : Index := Scalar.indexCast v691
  let c0_292 : Index := 0#32
  ![v699.toNat, 0]

def k0_chk296 (i : grid0.Coords) (v13 : BitVec 32) (v689 : BitVec 32) : Prop :=
  (∀ (k0_h5 : k0_cond5 i v13 = 1#1), 8 ∣ (k0_mult293 v689).toNat) ∧
  (∀ (k0_h5 : k0_cond5 i v13 = 1#1), ∀ a, (k0_off643 v689) a + S8x128.size a ≤ S65536x128.size a) ∧
  (∀ (k0_h5 : k0_cond5 i v13 = 1#1), ∀ a, (k0_off644 v689) a + S1x128.size a ≤ S8192x128.size a)
theorem k0_mult293_dvd : ∀ (i : grid0.Coords) (v13 : BitVec 32) (v689 : BitVec 32) (k0_hw296 : k0_chk296 i v13 v689), ∀ (k0_h5 : k0_cond5 i v13 = 1#1), 8 ∣ (k0_mult293 v689).toNat := fun i v13 v689 k0_hw296 k0_h5 => k0_hw296.1 k0_h5
theorem k0_off643_inb : ∀ (i : grid0.Coords) (v13 : BitVec 32) (v689 : BitVec 32) (k0_hw296 : k0_chk296 i v13 v689), ∀ (k0_h5 : k0_cond5 i v13 = 1#1), ∀ a, (k0_off643 v689) a + S8x128.size a ≤ S65536x128.size a := fun i v13 v689 k0_hw296 k0_h5 => k0_hw296.2.1 k0_h5
theorem k0_off644_inb : ∀ (i : grid0.Coords) (v13 : BitVec 32) (v689 : BitVec 32) (k0_hw296 : k0_chk296 i v13 v689), ∀ (k0_h5 : k0_cond5 i v13 = 1#1), ∀ a, (k0_off644 v689) a + S1x128.size a ≤ S8192x128.size a := fun i v13 v689 k0_hw296 k0_h5 => k0_hw296.2.2 k0_h5

def k0_off645 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c37_i32 : BitVec 32 := 37#32
  let v704 : BitVec 32 := Scalar.addi v74 c37_i32
  let v705 : Index := Scalar.indexCast v704
  ![v705.toNat]
def k0_mult294 (v706 : BitVec 32) : BitVec 32 :=
  let c3_i32_294 : BitVec 32 := 3#32
  let v707 : BitVec 32 := Scalar.shrsi v706 c3_i32_294
  let c8191_i32_295 : BitVec 32 := 8191#32
  let v708 : BitVec 32 := Scalar.andi v707 c8191_i32_295
  let c8_i32_296 : BitVec 32 := 8#32
  let v709 : BitVec 32 := Scalar.muli v708 c8_i32_296
  v709

def k0_off646 (v706 : BitVec 32) : Fin 2 → Nat :=
  let c3_i32_294 : BitVec 32 := 3#32
  let v707 : BitVec 32 := Scalar.shrsi v706 c3_i32_294
  let c8191_i32_295 : BitVec 32 := 8191#32
  let v708 : BitVec 32 := Scalar.andi v707 c8191_i32_295
  let c8_i32_296 : BitVec 32 := 8#32
  let v709 : BitVec 32 := Scalar.muli v708 c8_i32_296
  let v710 : BitVec 32 := v709
  let v711 : Index := Scalar.indexCast v710
  let c0_297 : Index := 0#32
  ![v711.toNat, 0]
def k0_off647 (v706 : BitVec 32) : Fin 2 → Nat :=
  let c3_i32_294 : BitVec 32 := 3#32
  let v707 : BitVec 32 := Scalar.shrsi v706 c3_i32_294
  let c8191_i32_295 : BitVec 32 := 8191#32
  let v708 : BitVec 32 := Scalar.andi v707 c8191_i32_295
  let v716 : Index := Scalar.indexCast v708
  let c0_299 : Index := 0#32
  ![v716.toNat, 0]

def k0_chk297 (i : grid0.Coords) (v13 : BitVec 32) (v706 : BitVec 32) : Prop :=
  (∀ (k0_h5 : k0_cond5 i v13 = 1#1), 8 ∣ (k0_mult294 v706).toNat) ∧
  (∀ (k0_h5 : k0_cond5 i v13 = 1#1), ∀ a, (k0_off646 v706) a + S8x128.size a ≤ S65536x128.size a) ∧
  (∀ (k0_h5 : k0_cond5 i v13 = 1#1), ∀ a, (k0_off647 v706) a + S1x128.size a ≤ S8192x128.size a)
theorem k0_mult294_dvd : ∀ (i : grid0.Coords) (v13 : BitVec 32) (v706 : BitVec 32) (k0_hw297 : k0_chk297 i v13 v706), ∀ (k0_h5 : k0_cond5 i v13 = 1#1), 8 ∣ (k0_mult294 v706).toNat := fun i v13 v706 k0_hw297 k0_h5 => k0_hw297.1 k0_h5
theorem k0_off646_inb : ∀ (i : grid0.Coords) (v13 : BitVec 32) (v706 : BitVec 32) (k0_hw297 : k0_chk297 i v13 v706), ∀ (k0_h5 : k0_cond5 i v13 = 1#1), ∀ a, (k0_off646 v706) a + S8x128.size a ≤ S65536x128.size a := fun i v13 v706 k0_hw297 k0_h5 => k0_hw297.2.1 k0_h5
theorem k0_off647_inb : ∀ (i : grid0.Coords) (v13 : BitVec 32) (v706 : BitVec 32) (k0_hw297 : k0_chk297 i v13 v706), ∀ (k0_h5 : k0_cond5 i v13 = 1#1), ∀ a, (k0_off647 v706) a + S1x128.size a ≤ S8192x128.size a := fun i v13 v706 k0_hw297 k0_h5 => k0_hw297.2.2 k0_h5

def k0_off648 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c38_i32 : BitVec 32 := 38#32
  let v721 : BitVec 32 := Scalar.addi v74 c38_i32
  let v722 : Index := Scalar.indexCast v721
  ![v722.toNat]
def k0_mult295 (v723 : BitVec 32) : BitVec 32 :=
  let c3_i32_301 : BitVec 32 := 3#32
  let v724 : BitVec 32 := Scalar.shrsi v723 c3_i32_301
  let c8191_i32_302 : BitVec 32 := 8191#32
  let v725 : BitVec 32 := Scalar.andi v724 c8191_i32_302
  let c8_i32_303 : BitVec 32 := 8#32
  let v726 : BitVec 32 := Scalar.muli v725 c8_i32_303
  v726

def k0_off649 (v723 : BitVec 32) : Fin 2 → Nat :=
  let c3_i32_301 : BitVec 32 := 3#32
  let v724 : BitVec 32 := Scalar.shrsi v723 c3_i32_301
  let c8191_i32_302 : BitVec 32 := 8191#32
  let v725 : BitVec 32 := Scalar.andi v724 c8191_i32_302
  let c8_i32_303 : BitVec 32 := 8#32
  let v726 : BitVec 32 := Scalar.muli v725 c8_i32_303
  let v727 : BitVec 32 := v726
  let v728 : Index := Scalar.indexCast v727
  let c0_304 : Index := 0#32
  ![v728.toNat, 0]
def k0_off650 (v723 : BitVec 32) : Fin 2 → Nat :=
  let c3_i32_301 : BitVec 32 := 3#32
  let v724 : BitVec 32 := Scalar.shrsi v723 c3_i32_301
  let c8191_i32_302 : BitVec 32 := 8191#32
  let v725 : BitVec 32 := Scalar.andi v724 c8191_i32_302
  let v733 : Index := Scalar.indexCast v725
  let c0_306 : Index := 0#32
  ![v733.toNat, 0]

def k0_chk298 (i : grid0.Coords) (v13 : BitVec 32) (v723 : BitVec 32) : Prop :=
  (∀ (k0_h5 : k0_cond5 i v13 = 1#1), 8 ∣ (k0_mult295 v723).toNat) ∧
  (∀ (k0_h5 : k0_cond5 i v13 = 1#1), ∀ a, (k0_off649 v723) a + S8x128.size a ≤ S65536x128.size a) ∧
  (∀ (k0_h5 : k0_cond5 i v13 = 1#1), ∀ a, (k0_off650 v723) a + S1x128.size a ≤ S8192x128.size a)
theorem k0_mult295_dvd : ∀ (i : grid0.Coords) (v13 : BitVec 32) (v723 : BitVec 32) (k0_hw298 : k0_chk298 i v13 v723), ∀ (k0_h5 : k0_cond5 i v13 = 1#1), 8 ∣ (k0_mult295 v723).toNat := fun i v13 v723 k0_hw298 k0_h5 => k0_hw298.1 k0_h5
theorem k0_off649_inb : ∀ (i : grid0.Coords) (v13 : BitVec 32) (v723 : BitVec 32) (k0_hw298 : k0_chk298 i v13 v723), ∀ (k0_h5 : k0_cond5 i v13 = 1#1), ∀ a, (k0_off649 v723) a + S8x128.size a ≤ S65536x128.size a := fun i v13 v723 k0_hw298 k0_h5 => k0_hw298.2.1 k0_h5
theorem k0_off650_inb : ∀ (i : grid0.Coords) (v13 : BitVec 32) (v723 : BitVec 32) (k0_hw298 : k0_chk298 i v13 v723), ∀ (k0_h5 : k0_cond5 i v13 = 1#1), ∀ a, (k0_off650 v723) a + S1x128.size a ≤ S8192x128.size a := fun i v13 v723 k0_hw298 k0_h5 => k0_hw298.2.2 k0_h5

def k0_off651 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c39_i32 : BitVec 32 := 39#32
  let v738 : BitVec 32 := Scalar.addi v74 c39_i32
  let v739 : Index := Scalar.indexCast v738
  ![v739.toNat]
def k0_mult296 (v740 : BitVec 32) : BitVec 32 :=
  let c3_i32_308 : BitVec 32 := 3#32
  let v741 : BitVec 32 := Scalar.shrsi v740 c3_i32_308
  let c8191_i32_309 : BitVec 32 := 8191#32
  let v742 : BitVec 32 := Scalar.andi v741 c8191_i32_309
  let c8_i32_310 : BitVec 32 := 8#32
  let v743 : BitVec 32 := Scalar.muli v742 c8_i32_310
  v743

def k0_off652 (v740 : BitVec 32) : Fin 2 → Nat :=
  let c3_i32_308 : BitVec 32 := 3#32
  let v741 : BitVec 32 := Scalar.shrsi v740 c3_i32_308
  let c8191_i32_309 : BitVec 32 := 8191#32
  let v742 : BitVec 32 := Scalar.andi v741 c8191_i32_309
  let c8_i32_310 : BitVec 32 := 8#32
  let v743 : BitVec 32 := Scalar.muli v742 c8_i32_310
  let v744 : BitVec 32 := v743
  let v745 : Index := Scalar.indexCast v744
  let c0_311 : Index := 0#32
  ![v745.toNat, 0]
def k0_off653 (v740 : BitVec 32) : Fin 2 → Nat :=
  let c3_i32_308 : BitVec 32 := 3#32
  let v741 : BitVec 32 := Scalar.shrsi v740 c3_i32_308
  let c8191_i32_309 : BitVec 32 := 8191#32
  let v742 : BitVec 32 := Scalar.andi v741 c8191_i32_309
  let v750 : Index := Scalar.indexCast v742
  let c0_313 : Index := 0#32
  ![v750.toNat, 0]

def k0_chk299 (i : grid0.Coords) (v13 : BitVec 32) (v740 : BitVec 32) : Prop :=
  (∀ (k0_h5 : k0_cond5 i v13 = 1#1), 8 ∣ (k0_mult296 v740).toNat) ∧
  (∀ (k0_h5 : k0_cond5 i v13 = 1#1), ∀ a, (k0_off652 v740) a + S8x128.size a ≤ S65536x128.size a) ∧
  (∀ (k0_h5 : k0_cond5 i v13 = 1#1), ∀ a, (k0_off653 v740) a + S1x128.size a ≤ S8192x128.size a)
theorem k0_mult296_dvd : ∀ (i : grid0.Coords) (v13 : BitVec 32) (v740 : BitVec 32) (k0_hw299 : k0_chk299 i v13 v740), ∀ (k0_h5 : k0_cond5 i v13 = 1#1), 8 ∣ (k0_mult296 v740).toNat := fun i v13 v740 k0_hw299 k0_h5 => k0_hw299.1 k0_h5
theorem k0_off652_inb : ∀ (i : grid0.Coords) (v13 : BitVec 32) (v740 : BitVec 32) (k0_hw299 : k0_chk299 i v13 v740), ∀ (k0_h5 : k0_cond5 i v13 = 1#1), ∀ a, (k0_off652 v740) a + S8x128.size a ≤ S65536x128.size a := fun i v13 v740 k0_hw299 k0_h5 => k0_hw299.2.1 k0_h5
theorem k0_off653_inb : ∀ (i : grid0.Coords) (v13 : BitVec 32) (v740 : BitVec 32) (k0_hw299 : k0_chk299 i v13 v740), ∀ (k0_h5 : k0_cond5 i v13 = 1#1), ∀ a, (k0_off653 v740) a + S1x128.size a ≤ S8192x128.size a := fun i v13 v740 k0_hw299 k0_h5 => k0_hw299.2.2 k0_h5

def k0_off654 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c40_i32 : BitVec 32 := 40#32
  let v755 : BitVec 32 := Scalar.addi v74 c40_i32
  let v756 : Index := Scalar.indexCast v755
  ![v756.toNat]
def k0_mult297 (v757 : BitVec 32) : BitVec 32 :=
  let c3_i32_315 : BitVec 32 := 3#32
  let v758 : BitVec 32 := Scalar.shrsi v757 c3_i32_315
  let c8191_i32_316 : BitVec 32 := 8191#32
  let v759 : BitVec 32 := Scalar.andi v758 c8191_i32_316
  let c8_i32_317 : BitVec 32 := 8#32
  let v760 : BitVec 32 := Scalar.muli v759 c8_i32_317
  v760

def k0_off655 (v757 : BitVec 32) : Fin 2 → Nat :=
  let c3_i32_315 : BitVec 32 := 3#32
  let v758 : BitVec 32 := Scalar.shrsi v757 c3_i32_315
  let c8191_i32_316 : BitVec 32 := 8191#32
  let v759 : BitVec 32 := Scalar.andi v758 c8191_i32_316
  let c8_i32_317 : BitVec 32 := 8#32
  let v760 : BitVec 32 := Scalar.muli v759 c8_i32_317
  let v761 : BitVec 32 := v760
  let v762 : Index := Scalar.indexCast v761
  let c0_318 : Index := 0#32
  ![v762.toNat, 0]
def k0_off656 (v757 : BitVec 32) : Fin 2 → Nat :=
  let c3_i32_315 : BitVec 32 := 3#32
  let v758 : BitVec 32 := Scalar.shrsi v757 c3_i32_315
  let c8191_i32_316 : BitVec 32 := 8191#32
  let v759 : BitVec 32 := Scalar.andi v758 c8191_i32_316
  let v767 : Index := Scalar.indexCast v759
  let c0_320 : Index := 0#32
  ![v767.toNat, 0]

def k0_chk300 (i : grid0.Coords) (v13 : BitVec 32) (v757 : BitVec 32) : Prop :=
  (∀ (k0_h5 : k0_cond5 i v13 = 1#1), 8 ∣ (k0_mult297 v757).toNat) ∧
  (∀ (k0_h5 : k0_cond5 i v13 = 1#1), ∀ a, (k0_off655 v757) a + S8x128.size a ≤ S65536x128.size a) ∧
  (∀ (k0_h5 : k0_cond5 i v13 = 1#1), ∀ a, (k0_off656 v757) a + S1x128.size a ≤ S8192x128.size a)
theorem k0_mult297_dvd : ∀ (i : grid0.Coords) (v13 : BitVec 32) (v757 : BitVec 32) (k0_hw300 : k0_chk300 i v13 v757), ∀ (k0_h5 : k0_cond5 i v13 = 1#1), 8 ∣ (k0_mult297 v757).toNat := fun i v13 v757 k0_hw300 k0_h5 => k0_hw300.1 k0_h5
theorem k0_off655_inb : ∀ (i : grid0.Coords) (v13 : BitVec 32) (v757 : BitVec 32) (k0_hw300 : k0_chk300 i v13 v757), ∀ (k0_h5 : k0_cond5 i v13 = 1#1), ∀ a, (k0_off655 v757) a + S8x128.size a ≤ S65536x128.size a := fun i v13 v757 k0_hw300 k0_h5 => k0_hw300.2.1 k0_h5
theorem k0_off656_inb : ∀ (i : grid0.Coords) (v13 : BitVec 32) (v757 : BitVec 32) (k0_hw300 : k0_chk300 i v13 v757), ∀ (k0_h5 : k0_cond5 i v13 = 1#1), ∀ a, (k0_off656 v757) a + S1x128.size a ≤ S8192x128.size a := fun i v13 v757 k0_hw300 k0_h5 => k0_hw300.2.2 k0_h5

def k0_off657 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c41_i32 : BitVec 32 := 41#32
  let v772 : BitVec 32 := Scalar.addi v74 c41_i32
  let v773 : Index := Scalar.indexCast v772
  ![v773.toNat]
def k0_mult298 (v774 : BitVec 32) : BitVec 32 :=
  let c3_i32_323 : BitVec 32 := 3#32
  let v775 : BitVec 32 := Scalar.shrsi v774 c3_i32_323
  let c8191_i32_324 : BitVec 32 := 8191#32
  let v776 : BitVec 32 := Scalar.andi v775 c8191_i32_324
  let c8_i32_325 : BitVec 32 := 8#32
  let v777 : BitVec 32 := Scalar.muli v776 c8_i32_325
  v777

def k0_off658 (v774 : BitVec 32) : Fin 2 → Nat :=
  let c3_i32_323 : BitVec 32 := 3#32
  let v775 : BitVec 32 := Scalar.shrsi v774 c3_i32_323
  let c8191_i32_324 : BitVec 32 := 8191#32
  let v776 : BitVec 32 := Scalar.andi v775 c8191_i32_324
  let c8_i32_325 : BitVec 32 := 8#32
  let v777 : BitVec 32 := Scalar.muli v776 c8_i32_325
  let v778 : BitVec 32 := v777
  let v779 : Index := Scalar.indexCast v778
  let c0_326 : Index := 0#32
  ![v779.toNat, 0]
def k0_off659 (v774 : BitVec 32) : Fin 2 → Nat :=
  let c3_i32_323 : BitVec 32 := 3#32
  let v775 : BitVec 32 := Scalar.shrsi v774 c3_i32_323
  let c8191_i32_324 : BitVec 32 := 8191#32
  let v776 : BitVec 32 := Scalar.andi v775 c8191_i32_324
  let v784 : Index := Scalar.indexCast v776
  let c0_328 : Index := 0#32
  ![v784.toNat, 0]

def k0_chk301 (i : grid0.Coords) (v13 : BitVec 32) (v774 : BitVec 32) : Prop :=
  (∀ (k0_h5 : k0_cond5 i v13 = 1#1), 8 ∣ (k0_mult298 v774).toNat) ∧
  (∀ (k0_h5 : k0_cond5 i v13 = 1#1), ∀ a, (k0_off658 v774) a + S8x128.size a ≤ S65536x128.size a) ∧
  (∀ (k0_h5 : k0_cond5 i v13 = 1#1), ∀ a, (k0_off659 v774) a + S1x128.size a ≤ S8192x128.size a)
theorem k0_mult298_dvd : ∀ (i : grid0.Coords) (v13 : BitVec 32) (v774 : BitVec 32) (k0_hw301 : k0_chk301 i v13 v774), ∀ (k0_h5 : k0_cond5 i v13 = 1#1), 8 ∣ (k0_mult298 v774).toNat := fun i v13 v774 k0_hw301 k0_h5 => k0_hw301.1 k0_h5
theorem k0_off658_inb : ∀ (i : grid0.Coords) (v13 : BitVec 32) (v774 : BitVec 32) (k0_hw301 : k0_chk301 i v13 v774), ∀ (k0_h5 : k0_cond5 i v13 = 1#1), ∀ a, (k0_off658 v774) a + S8x128.size a ≤ S65536x128.size a := fun i v13 v774 k0_hw301 k0_h5 => k0_hw301.2.1 k0_h5
theorem k0_off659_inb : ∀ (i : grid0.Coords) (v13 : BitVec 32) (v774 : BitVec 32) (k0_hw301 : k0_chk301 i v13 v774), ∀ (k0_h5 : k0_cond5 i v13 = 1#1), ∀ a, (k0_off659 v774) a + S1x128.size a ≤ S8192x128.size a := fun i v13 v774 k0_hw301 k0_h5 => k0_hw301.2.2 k0_h5

def k0_off660 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c42_i32 : BitVec 32 := 42#32
  let v789 : BitVec 32 := Scalar.addi v74 c42_i32
  let v790 : Index := Scalar.indexCast v789
  ![v790.toNat]
def k0_mult299 (v791 : BitVec 32) : BitVec 32 :=
  let c3_i32_330 : BitVec 32 := 3#32
  let v792 : BitVec 32 := Scalar.shrsi v791 c3_i32_330
  let c8191_i32_331 : BitVec 32 := 8191#32
  let v793 : BitVec 32 := Scalar.andi v792 c8191_i32_331
  let c8_i32_332 : BitVec 32 := 8#32
  let v794 : BitVec 32 := Scalar.muli v793 c8_i32_332
  v794

def k0_off661 (v791 : BitVec 32) : Fin 2 → Nat :=
  let c3_i32_330 : BitVec 32 := 3#32
  let v792 : BitVec 32 := Scalar.shrsi v791 c3_i32_330
  let c8191_i32_331 : BitVec 32 := 8191#32
  let v793 : BitVec 32 := Scalar.andi v792 c8191_i32_331
  let c8_i32_332 : BitVec 32 := 8#32
  let v794 : BitVec 32 := Scalar.muli v793 c8_i32_332
  let v795 : BitVec 32 := v794
  let v796 : Index := Scalar.indexCast v795
  let c0_333 : Index := 0#32
  ![v796.toNat, 0]
def k0_off662 (v791 : BitVec 32) : Fin 2 → Nat :=
  let c3_i32_330 : BitVec 32 := 3#32
  let v792 : BitVec 32 := Scalar.shrsi v791 c3_i32_330
  let c8191_i32_331 : BitVec 32 := 8191#32
  let v793 : BitVec 32 := Scalar.andi v792 c8191_i32_331
  let v801 : Index := Scalar.indexCast v793
  let c0_335 : Index := 0#32
  ![v801.toNat, 0]

def k0_chk302 (i : grid0.Coords) (v13 : BitVec 32) (v791 : BitVec 32) : Prop :=
  (∀ (k0_h5 : k0_cond5 i v13 = 1#1), 8 ∣ (k0_mult299 v791).toNat) ∧
  (∀ (k0_h5 : k0_cond5 i v13 = 1#1), ∀ a, (k0_off661 v791) a + S8x128.size a ≤ S65536x128.size a) ∧
  (∀ (k0_h5 : k0_cond5 i v13 = 1#1), ∀ a, (k0_off662 v791) a + S1x128.size a ≤ S8192x128.size a)
theorem k0_mult299_dvd : ∀ (i : grid0.Coords) (v13 : BitVec 32) (v791 : BitVec 32) (k0_hw302 : k0_chk302 i v13 v791), ∀ (k0_h5 : k0_cond5 i v13 = 1#1), 8 ∣ (k0_mult299 v791).toNat := fun i v13 v791 k0_hw302 k0_h5 => k0_hw302.1 k0_h5
theorem k0_off661_inb : ∀ (i : grid0.Coords) (v13 : BitVec 32) (v791 : BitVec 32) (k0_hw302 : k0_chk302 i v13 v791), ∀ (k0_h5 : k0_cond5 i v13 = 1#1), ∀ a, (k0_off661 v791) a + S8x128.size a ≤ S65536x128.size a := fun i v13 v791 k0_hw302 k0_h5 => k0_hw302.2.1 k0_h5
theorem k0_off662_inb : ∀ (i : grid0.Coords) (v13 : BitVec 32) (v791 : BitVec 32) (k0_hw302 : k0_chk302 i v13 v791), ∀ (k0_h5 : k0_cond5 i v13 = 1#1), ∀ a, (k0_off662 v791) a + S1x128.size a ≤ S8192x128.size a := fun i v13 v791 k0_hw302 k0_h5 => k0_hw302.2.2 k0_h5

def k0_off663 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c43_i32 : BitVec 32 := 43#32
  let v806 : BitVec 32 := Scalar.addi v74 c43_i32
  let v807 : Index := Scalar.indexCast v806
  ![v807.toNat]
def k0_mult300 (v808 : BitVec 32) : BitVec 32 :=
  let c3_i32_337 : BitVec 32 := 3#32
  let v809 : BitVec 32 := Scalar.shrsi v808 c3_i32_337
  let c8191_i32_338 : BitVec 32 := 8191#32
  let v810 : BitVec 32 := Scalar.andi v809 c8191_i32_338
  let c8_i32_339 : BitVec 32 := 8#32
  let v811 : BitVec 32 := Scalar.muli v810 c8_i32_339
  v811

def k0_off664 (v808 : BitVec 32) : Fin 2 → Nat :=
  let c3_i32_337 : BitVec 32 := 3#32
  let v809 : BitVec 32 := Scalar.shrsi v808 c3_i32_337
  let c8191_i32_338 : BitVec 32 := 8191#32
  let v810 : BitVec 32 := Scalar.andi v809 c8191_i32_338
  let c8_i32_339 : BitVec 32 := 8#32
  let v811 : BitVec 32 := Scalar.muli v810 c8_i32_339
  let v812 : BitVec 32 := v811
  let v813 : Index := Scalar.indexCast v812
  let c0_340 : Index := 0#32
  ![v813.toNat, 0]
def k0_off665 (v808 : BitVec 32) : Fin 2 → Nat :=
  let c3_i32_337 : BitVec 32 := 3#32
  let v809 : BitVec 32 := Scalar.shrsi v808 c3_i32_337
  let c8191_i32_338 : BitVec 32 := 8191#32
  let v810 : BitVec 32 := Scalar.andi v809 c8191_i32_338
  let v818 : Index := Scalar.indexCast v810
  let c0_342 : Index := 0#32
  ![v818.toNat, 0]

def k0_chk303 (i : grid0.Coords) (v13 : BitVec 32) (v808 : BitVec 32) : Prop :=
  (∀ (k0_h5 : k0_cond5 i v13 = 1#1), 8 ∣ (k0_mult300 v808).toNat) ∧
  (∀ (k0_h5 : k0_cond5 i v13 = 1#1), ∀ a, (k0_off664 v808) a + S8x128.size a ≤ S65536x128.size a) ∧
  (∀ (k0_h5 : k0_cond5 i v13 = 1#1), ∀ a, (k0_off665 v808) a + S1x128.size a ≤ S8192x128.size a)
theorem k0_mult300_dvd : ∀ (i : grid0.Coords) (v13 : BitVec 32) (v808 : BitVec 32) (k0_hw303 : k0_chk303 i v13 v808), ∀ (k0_h5 : k0_cond5 i v13 = 1#1), 8 ∣ (k0_mult300 v808).toNat := fun i v13 v808 k0_hw303 k0_h5 => k0_hw303.1 k0_h5
theorem k0_off664_inb : ∀ (i : grid0.Coords) (v13 : BitVec 32) (v808 : BitVec 32) (k0_hw303 : k0_chk303 i v13 v808), ∀ (k0_h5 : k0_cond5 i v13 = 1#1), ∀ a, (k0_off664 v808) a + S8x128.size a ≤ S65536x128.size a := fun i v13 v808 k0_hw303 k0_h5 => k0_hw303.2.1 k0_h5
theorem k0_off665_inb : ∀ (i : grid0.Coords) (v13 : BitVec 32) (v808 : BitVec 32) (k0_hw303 : k0_chk303 i v13 v808), ∀ (k0_h5 : k0_cond5 i v13 = 1#1), ∀ a, (k0_off665 v808) a + S1x128.size a ≤ S8192x128.size a := fun i v13 v808 k0_hw303 k0_h5 => k0_hw303.2.2 k0_h5

def k0_off666 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c44_i32 : BitVec 32 := 44#32
  let v823 : BitVec 32 := Scalar.addi v74 c44_i32
  let v824 : Index := Scalar.indexCast v823
  ![v824.toNat]
def k0_mult301 (v825 : BitVec 32) : BitVec 32 :=
  let c3_i32_344 : BitVec 32 := 3#32
  let v826 : BitVec 32 := Scalar.shrsi v825 c3_i32_344
  let c8191_i32_345 : BitVec 32 := 8191#32
  let v827 : BitVec 32 := Scalar.andi v826 c8191_i32_345
  let c8_i32_346 : BitVec 32 := 8#32
  let v828 : BitVec 32 := Scalar.muli v827 c8_i32_346
  v828

def k0_off667 (v825 : BitVec 32) : Fin 2 → Nat :=
  let c3_i32_344 : BitVec 32 := 3#32
  let v826 : BitVec 32 := Scalar.shrsi v825 c3_i32_344
  let c8191_i32_345 : BitVec 32 := 8191#32
  let v827 : BitVec 32 := Scalar.andi v826 c8191_i32_345
  let c8_i32_346 : BitVec 32 := 8#32
  let v828 : BitVec 32 := Scalar.muli v827 c8_i32_346
  let v829 : BitVec 32 := v828
  let v830 : Index := Scalar.indexCast v829
  let c0_347 : Index := 0#32
  ![v830.toNat, 0]
def k0_off668 (v825 : BitVec 32) : Fin 2 → Nat :=
  let c3_i32_344 : BitVec 32 := 3#32
  let v826 : BitVec 32 := Scalar.shrsi v825 c3_i32_344
  let c8191_i32_345 : BitVec 32 := 8191#32
  let v827 : BitVec 32 := Scalar.andi v826 c8191_i32_345
  let v835 : Index := Scalar.indexCast v827
  let c0_349 : Index := 0#32
  ![v835.toNat, 0]

def k0_chk304 (i : grid0.Coords) (v13 : BitVec 32) (v825 : BitVec 32) : Prop :=
  (∀ (k0_h5 : k0_cond5 i v13 = 1#1), 8 ∣ (k0_mult301 v825).toNat) ∧
  (∀ (k0_h5 : k0_cond5 i v13 = 1#1), ∀ a, (k0_off667 v825) a + S8x128.size a ≤ S65536x128.size a) ∧
  (∀ (k0_h5 : k0_cond5 i v13 = 1#1), ∀ a, (k0_off668 v825) a + S1x128.size a ≤ S8192x128.size a)
theorem k0_mult301_dvd : ∀ (i : grid0.Coords) (v13 : BitVec 32) (v825 : BitVec 32) (k0_hw304 : k0_chk304 i v13 v825), ∀ (k0_h5 : k0_cond5 i v13 = 1#1), 8 ∣ (k0_mult301 v825).toNat := fun i v13 v825 k0_hw304 k0_h5 => k0_hw304.1 k0_h5
theorem k0_off667_inb : ∀ (i : grid0.Coords) (v13 : BitVec 32) (v825 : BitVec 32) (k0_hw304 : k0_chk304 i v13 v825), ∀ (k0_h5 : k0_cond5 i v13 = 1#1), ∀ a, (k0_off667 v825) a + S8x128.size a ≤ S65536x128.size a := fun i v13 v825 k0_hw304 k0_h5 => k0_hw304.2.1 k0_h5
theorem k0_off668_inb : ∀ (i : grid0.Coords) (v13 : BitVec 32) (v825 : BitVec 32) (k0_hw304 : k0_chk304 i v13 v825), ∀ (k0_h5 : k0_cond5 i v13 = 1#1), ∀ a, (k0_off668 v825) a + S1x128.size a ≤ S8192x128.size a := fun i v13 v825 k0_hw304 k0_h5 => k0_hw304.2.2 k0_h5

def k0_off669 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c45_i32 : BitVec 32 := 45#32
  let v840 : BitVec 32 := Scalar.addi v74 c45_i32
  let v841 : Index := Scalar.indexCast v840
  ![v841.toNat]
def k0_mult302 (v842 : BitVec 32) : BitVec 32 :=
  let c3_i32_351 : BitVec 32 := 3#32
  let v843 : BitVec 32 := Scalar.shrsi v842 c3_i32_351
  let c8191_i32_352 : BitVec 32 := 8191#32
  let v844 : BitVec 32 := Scalar.andi v843 c8191_i32_352
  let c8_i32_353 : BitVec 32 := 8#32
  let v845 : BitVec 32 := Scalar.muli v844 c8_i32_353
  v845

def k0_off670 (v842 : BitVec 32) : Fin 2 → Nat :=
  let c3_i32_351 : BitVec 32 := 3#32
  let v843 : BitVec 32 := Scalar.shrsi v842 c3_i32_351
  let c8191_i32_352 : BitVec 32 := 8191#32
  let v844 : BitVec 32 := Scalar.andi v843 c8191_i32_352
  let c8_i32_353 : BitVec 32 := 8#32
  let v845 : BitVec 32 := Scalar.muli v844 c8_i32_353
  let v846 : BitVec 32 := v845
  let v847 : Index := Scalar.indexCast v846
  let c0_354 : Index := 0#32
  ![v847.toNat, 0]
def k0_off671 (v842 : BitVec 32) : Fin 2 → Nat :=
  let c3_i32_351 : BitVec 32 := 3#32
  let v843 : BitVec 32 := Scalar.shrsi v842 c3_i32_351
  let c8191_i32_352 : BitVec 32 := 8191#32
  let v844 : BitVec 32 := Scalar.andi v843 c8191_i32_352
  let v852 : Index := Scalar.indexCast v844
  let c0_356 : Index := 0#32
  ![v852.toNat, 0]

def k0_chk305 (i : grid0.Coords) (v13 : BitVec 32) (v842 : BitVec 32) : Prop :=
  (∀ (k0_h5 : k0_cond5 i v13 = 1#1), 8 ∣ (k0_mult302 v842).toNat) ∧
  (∀ (k0_h5 : k0_cond5 i v13 = 1#1), ∀ a, (k0_off670 v842) a + S8x128.size a ≤ S65536x128.size a) ∧
  (∀ (k0_h5 : k0_cond5 i v13 = 1#1), ∀ a, (k0_off671 v842) a + S1x128.size a ≤ S8192x128.size a)
theorem k0_mult302_dvd : ∀ (i : grid0.Coords) (v13 : BitVec 32) (v842 : BitVec 32) (k0_hw305 : k0_chk305 i v13 v842), ∀ (k0_h5 : k0_cond5 i v13 = 1#1), 8 ∣ (k0_mult302 v842).toNat := fun i v13 v842 k0_hw305 k0_h5 => k0_hw305.1 k0_h5
theorem k0_off670_inb : ∀ (i : grid0.Coords) (v13 : BitVec 32) (v842 : BitVec 32) (k0_hw305 : k0_chk305 i v13 v842), ∀ (k0_h5 : k0_cond5 i v13 = 1#1), ∀ a, (k0_off670 v842) a + S8x128.size a ≤ S65536x128.size a := fun i v13 v842 k0_hw305 k0_h5 => k0_hw305.2.1 k0_h5
theorem k0_off671_inb : ∀ (i : grid0.Coords) (v13 : BitVec 32) (v842 : BitVec 32) (k0_hw305 : k0_chk305 i v13 v842), ∀ (k0_h5 : k0_cond5 i v13 = 1#1), ∀ a, (k0_off671 v842) a + S1x128.size a ≤ S8192x128.size a := fun i v13 v842 k0_hw305 k0_h5 => k0_hw305.2.2 k0_h5

def k0_off672 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c46_i32 : BitVec 32 := 46#32
  let v857 : BitVec 32 := Scalar.addi v74 c46_i32
  let v858 : Index := Scalar.indexCast v857
  ![v858.toNat]
def k0_mult303 (v859 : BitVec 32) : BitVec 32 :=
  let c3_i32_358 : BitVec 32 := 3#32
  let v860 : BitVec 32 := Scalar.shrsi v859 c3_i32_358
  let c8191_i32_359 : BitVec 32 := 8191#32
  let v861 : BitVec 32 := Scalar.andi v860 c8191_i32_359
  let c8_i32_360 : BitVec 32 := 8#32
  let v862 : BitVec 32 := Scalar.muli v861 c8_i32_360
  v862

def k0_off673 (v859 : BitVec 32) : Fin 2 → Nat :=
  let c3_i32_358 : BitVec 32 := 3#32
  let v860 : BitVec 32 := Scalar.shrsi v859 c3_i32_358
  let c8191_i32_359 : BitVec 32 := 8191#32
  let v861 : BitVec 32 := Scalar.andi v860 c8191_i32_359
  let c8_i32_360 : BitVec 32 := 8#32
  let v862 : BitVec 32 := Scalar.muli v861 c8_i32_360
  let v863 : BitVec 32 := v862
  let v864 : Index := Scalar.indexCast v863
  let c0_361 : Index := 0#32
  ![v864.toNat, 0]
def k0_off674 (v859 : BitVec 32) : Fin 2 → Nat :=
  let c3_i32_358 : BitVec 32 := 3#32
  let v860 : BitVec 32 := Scalar.shrsi v859 c3_i32_358
  let c8191_i32_359 : BitVec 32 := 8191#32
  let v861 : BitVec 32 := Scalar.andi v860 c8191_i32_359
  let v869 : Index := Scalar.indexCast v861
  let c0_363 : Index := 0#32
  ![v869.toNat, 0]

def k0_chk306 (i : grid0.Coords) (v13 : BitVec 32) (v859 : BitVec 32) : Prop :=
  (∀ (k0_h5 : k0_cond5 i v13 = 1#1), 8 ∣ (k0_mult303 v859).toNat) ∧
  (∀ (k0_h5 : k0_cond5 i v13 = 1#1), ∀ a, (k0_off673 v859) a + S8x128.size a ≤ S65536x128.size a) ∧
  (∀ (k0_h5 : k0_cond5 i v13 = 1#1), ∀ a, (k0_off674 v859) a + S1x128.size a ≤ S8192x128.size a)
theorem k0_mult303_dvd : ∀ (i : grid0.Coords) (v13 : BitVec 32) (v859 : BitVec 32) (k0_hw306 : k0_chk306 i v13 v859), ∀ (k0_h5 : k0_cond5 i v13 = 1#1), 8 ∣ (k0_mult303 v859).toNat := fun i v13 v859 k0_hw306 k0_h5 => k0_hw306.1 k0_h5
theorem k0_off673_inb : ∀ (i : grid0.Coords) (v13 : BitVec 32) (v859 : BitVec 32) (k0_hw306 : k0_chk306 i v13 v859), ∀ (k0_h5 : k0_cond5 i v13 = 1#1), ∀ a, (k0_off673 v859) a + S8x128.size a ≤ S65536x128.size a := fun i v13 v859 k0_hw306 k0_h5 => k0_hw306.2.1 k0_h5
theorem k0_off674_inb : ∀ (i : grid0.Coords) (v13 : BitVec 32) (v859 : BitVec 32) (k0_hw306 : k0_chk306 i v13 v859), ∀ (k0_h5 : k0_cond5 i v13 = 1#1), ∀ a, (k0_off674 v859) a + S1x128.size a ≤ S8192x128.size a := fun i v13 v859 k0_hw306 k0_h5 => k0_hw306.2.2 k0_h5

def k0_off675 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c47_i32 : BitVec 32 := 47#32
  let v874 : BitVec 32 := Scalar.addi v74 c47_i32
  let v875 : Index := Scalar.indexCast v874
  ![v875.toNat]
def k0_mult304 (v876 : BitVec 32) : BitVec 32 :=
  let c3_i32_365 : BitVec 32 := 3#32
  let v877 : BitVec 32 := Scalar.shrsi v876 c3_i32_365
  let c8191_i32_366 : BitVec 32 := 8191#32
  let v878 : BitVec 32 := Scalar.andi v877 c8191_i32_366
  let c8_i32_367 : BitVec 32 := 8#32
  let v879 : BitVec 32 := Scalar.muli v878 c8_i32_367
  v879

def k0_off676 (v876 : BitVec 32) : Fin 2 → Nat :=
  let c3_i32_365 : BitVec 32 := 3#32
  let v877 : BitVec 32 := Scalar.shrsi v876 c3_i32_365
  let c8191_i32_366 : BitVec 32 := 8191#32
  let v878 : BitVec 32 := Scalar.andi v877 c8191_i32_366
  let c8_i32_367 : BitVec 32 := 8#32
  let v879 : BitVec 32 := Scalar.muli v878 c8_i32_367
  let v880 : BitVec 32 := v879
  let v881 : Index := Scalar.indexCast v880
  let c0_368 : Index := 0#32
  ![v881.toNat, 0]
def k0_off677 (v876 : BitVec 32) : Fin 2 → Nat :=
  let c3_i32_365 : BitVec 32 := 3#32
  let v877 : BitVec 32 := Scalar.shrsi v876 c3_i32_365
  let c8191_i32_366 : BitVec 32 := 8191#32
  let v878 : BitVec 32 := Scalar.andi v877 c8191_i32_366
  let v886 : Index := Scalar.indexCast v878
  let c0_370 : Index := 0#32
  ![v886.toNat, 0]

def k0_chk307 (i : grid0.Coords) (v13 : BitVec 32) (v876 : BitVec 32) : Prop :=
  (∀ (k0_h5 : k0_cond5 i v13 = 1#1), 8 ∣ (k0_mult304 v876).toNat) ∧
  (∀ (k0_h5 : k0_cond5 i v13 = 1#1), ∀ a, (k0_off676 v876) a + S8x128.size a ≤ S65536x128.size a) ∧
  (∀ (k0_h5 : k0_cond5 i v13 = 1#1), ∀ a, (k0_off677 v876) a + S1x128.size a ≤ S8192x128.size a)
theorem k0_mult304_dvd : ∀ (i : grid0.Coords) (v13 : BitVec 32) (v876 : BitVec 32) (k0_hw307 : k0_chk307 i v13 v876), ∀ (k0_h5 : k0_cond5 i v13 = 1#1), 8 ∣ (k0_mult304 v876).toNat := fun i v13 v876 k0_hw307 k0_h5 => k0_hw307.1 k0_h5
theorem k0_off676_inb : ∀ (i : grid0.Coords) (v13 : BitVec 32) (v876 : BitVec 32) (k0_hw307 : k0_chk307 i v13 v876), ∀ (k0_h5 : k0_cond5 i v13 = 1#1), ∀ a, (k0_off676 v876) a + S8x128.size a ≤ S65536x128.size a := fun i v13 v876 k0_hw307 k0_h5 => k0_hw307.2.1 k0_h5
theorem k0_off677_inb : ∀ (i : grid0.Coords) (v13 : BitVec 32) (v876 : BitVec 32) (k0_hw307 : k0_chk307 i v13 v876), ∀ (k0_h5 : k0_cond5 i v13 = 1#1), ∀ a, (k0_off677 v876) a + S1x128.size a ≤ S8192x128.size a := fun i v13 v876 k0_hw307 k0_h5 => k0_hw307.2.2 k0_h5

def k0_off678 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c48_i32 : BitVec 32 := 48#32
  let v891 : BitVec 32 := Scalar.addi v74 c48_i32
  let v892 : Index := Scalar.indexCast v891
  ![v892.toNat]
def k0_mult305 (v893 : BitVec 32) : BitVec 32 :=
  let c3_i32_372 : BitVec 32 := 3#32
  let v894 : BitVec 32 := Scalar.shrsi v893 c3_i32_372
  let c8191_i32_373 : BitVec 32 := 8191#32
  let v895 : BitVec 32 := Scalar.andi v894 c8191_i32_373
  let c8_i32_374 : BitVec 32 := 8#32
  let v896 : BitVec 32 := Scalar.muli v895 c8_i32_374
  v896

def k0_off679 (v893 : BitVec 32) : Fin 2 → Nat :=
  let c3_i32_372 : BitVec 32 := 3#32
  let v894 : BitVec 32 := Scalar.shrsi v893 c3_i32_372
  let c8191_i32_373 : BitVec 32 := 8191#32
  let v895 : BitVec 32 := Scalar.andi v894 c8191_i32_373
  let c8_i32_374 : BitVec 32 := 8#32
  let v896 : BitVec 32 := Scalar.muli v895 c8_i32_374
  let v897 : BitVec 32 := v896
  let v898 : Index := Scalar.indexCast v897
  let c0_375 : Index := 0#32
  ![v898.toNat, 0]
def k0_off680 (v893 : BitVec 32) : Fin 2 → Nat :=
  let c3_i32_372 : BitVec 32 := 3#32
  let v894 : BitVec 32 := Scalar.shrsi v893 c3_i32_372
  let c8191_i32_373 : BitVec 32 := 8191#32
  let v895 : BitVec 32 := Scalar.andi v894 c8191_i32_373
  let v903 : Index := Scalar.indexCast v895
  let c0_377 : Index := 0#32
  ![v903.toNat, 0]

def k0_chk308 (i : grid0.Coords) (v13 : BitVec 32) (v893 : BitVec 32) : Prop :=
  (∀ (k0_h5 : k0_cond5 i v13 = 1#1), 8 ∣ (k0_mult305 v893).toNat) ∧
  (∀ (k0_h5 : k0_cond5 i v13 = 1#1), ∀ a, (k0_off679 v893) a + S8x128.size a ≤ S65536x128.size a) ∧
  (∀ (k0_h5 : k0_cond5 i v13 = 1#1), ∀ a, (k0_off680 v893) a + S1x128.size a ≤ S8192x128.size a)
theorem k0_mult305_dvd : ∀ (i : grid0.Coords) (v13 : BitVec 32) (v893 : BitVec 32) (k0_hw308 : k0_chk308 i v13 v893), ∀ (k0_h5 : k0_cond5 i v13 = 1#1), 8 ∣ (k0_mult305 v893).toNat := fun i v13 v893 k0_hw308 k0_h5 => k0_hw308.1 k0_h5
theorem k0_off679_inb : ∀ (i : grid0.Coords) (v13 : BitVec 32) (v893 : BitVec 32) (k0_hw308 : k0_chk308 i v13 v893), ∀ (k0_h5 : k0_cond5 i v13 = 1#1), ∀ a, (k0_off679 v893) a + S8x128.size a ≤ S65536x128.size a := fun i v13 v893 k0_hw308 k0_h5 => k0_hw308.2.1 k0_h5
theorem k0_off680_inb : ∀ (i : grid0.Coords) (v13 : BitVec 32) (v893 : BitVec 32) (k0_hw308 : k0_chk308 i v13 v893), ∀ (k0_h5 : k0_cond5 i v13 = 1#1), ∀ a, (k0_off680 v893) a + S1x128.size a ≤ S8192x128.size a := fun i v13 v893 k0_hw308 k0_h5 => k0_hw308.2.2 k0_h5

def k0_off681 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c49_i32 : BitVec 32 := 49#32
  let v908 : BitVec 32 := Scalar.addi v74 c49_i32
  let v909 : Index := Scalar.indexCast v908
  ![v909.toNat]
def k0_mult306 (v910 : BitVec 32) : BitVec 32 :=
  let c3_i32_380 : BitVec 32 := 3#32
  let v911 : BitVec 32 := Scalar.shrsi v910 c3_i32_380
  let c8191_i32_381 : BitVec 32 := 8191#32
  let v912 : BitVec 32 := Scalar.andi v911 c8191_i32_381
  let c8_i32_382 : BitVec 32 := 8#32
  let v913 : BitVec 32 := Scalar.muli v912 c8_i32_382
  v913

def k0_off682 (v910 : BitVec 32) : Fin 2 → Nat :=
  let c3_i32_380 : BitVec 32 := 3#32
  let v911 : BitVec 32 := Scalar.shrsi v910 c3_i32_380
  let c8191_i32_381 : BitVec 32 := 8191#32
  let v912 : BitVec 32 := Scalar.andi v911 c8191_i32_381
  let c8_i32_382 : BitVec 32 := 8#32
  let v913 : BitVec 32 := Scalar.muli v912 c8_i32_382
  let v914 : BitVec 32 := v913
  let v915 : Index := Scalar.indexCast v914
  let c0_383 : Index := 0#32
  ![v915.toNat, 0]
def k0_off683 (v910 : BitVec 32) : Fin 2 → Nat :=
  let c3_i32_380 : BitVec 32 := 3#32
  let v911 : BitVec 32 := Scalar.shrsi v910 c3_i32_380
  let c8191_i32_381 : BitVec 32 := 8191#32
  let v912 : BitVec 32 := Scalar.andi v911 c8191_i32_381
  let v920 : Index := Scalar.indexCast v912
  let c0_385 : Index := 0#32
  ![v920.toNat, 0]

def k0_chk309 (i : grid0.Coords) (v13 : BitVec 32) (v910 : BitVec 32) : Prop :=
  (∀ (k0_h5 : k0_cond5 i v13 = 1#1), 8 ∣ (k0_mult306 v910).toNat) ∧
  (∀ (k0_h5 : k0_cond5 i v13 = 1#1), ∀ a, (k0_off682 v910) a + S8x128.size a ≤ S65536x128.size a) ∧
  (∀ (k0_h5 : k0_cond5 i v13 = 1#1), ∀ a, (k0_off683 v910) a + S1x128.size a ≤ S8192x128.size a)
theorem k0_mult306_dvd : ∀ (i : grid0.Coords) (v13 : BitVec 32) (v910 : BitVec 32) (k0_hw309 : k0_chk309 i v13 v910), ∀ (k0_h5 : k0_cond5 i v13 = 1#1), 8 ∣ (k0_mult306 v910).toNat := fun i v13 v910 k0_hw309 k0_h5 => k0_hw309.1 k0_h5
theorem k0_off682_inb : ∀ (i : grid0.Coords) (v13 : BitVec 32) (v910 : BitVec 32) (k0_hw309 : k0_chk309 i v13 v910), ∀ (k0_h5 : k0_cond5 i v13 = 1#1), ∀ a, (k0_off682 v910) a + S8x128.size a ≤ S65536x128.size a := fun i v13 v910 k0_hw309 k0_h5 => k0_hw309.2.1 k0_h5
theorem k0_off683_inb : ∀ (i : grid0.Coords) (v13 : BitVec 32) (v910 : BitVec 32) (k0_hw309 : k0_chk309 i v13 v910), ∀ (k0_h5 : k0_cond5 i v13 = 1#1), ∀ a, (k0_off683 v910) a + S1x128.size a ≤ S8192x128.size a := fun i v13 v910 k0_hw309 k0_h5 => k0_hw309.2.2 k0_h5

def k0_off684 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c50_i32 : BitVec 32 := 50#32
  let v925 : BitVec 32 := Scalar.addi v74 c50_i32
  let v926 : Index := Scalar.indexCast v925
  ![v926.toNat]
def k0_mult307 (v927 : BitVec 32) : BitVec 32 :=
  let c3_i32_387 : BitVec 32 := 3#32
  let v928 : BitVec 32 := Scalar.shrsi v927 c3_i32_387
  let c8191_i32_388 : BitVec 32 := 8191#32
  let v929 : BitVec 32 := Scalar.andi v928 c8191_i32_388
  let c8_i32_389 : BitVec 32 := 8#32
  let v930 : BitVec 32 := Scalar.muli v929 c8_i32_389
  v930

def k0_off685 (v927 : BitVec 32) : Fin 2 → Nat :=
  let c3_i32_387 : BitVec 32 := 3#32
  let v928 : BitVec 32 := Scalar.shrsi v927 c3_i32_387
  let c8191_i32_388 : BitVec 32 := 8191#32
  let v929 : BitVec 32 := Scalar.andi v928 c8191_i32_388
  let c8_i32_389 : BitVec 32 := 8#32
  let v930 : BitVec 32 := Scalar.muli v929 c8_i32_389
  let v931 : BitVec 32 := v930
  let v932 : Index := Scalar.indexCast v931
  let c0_390 : Index := 0#32
  ![v932.toNat, 0]
def k0_off686 (v927 : BitVec 32) : Fin 2 → Nat :=
  let c3_i32_387 : BitVec 32 := 3#32
  let v928 : BitVec 32 := Scalar.shrsi v927 c3_i32_387
  let c8191_i32_388 : BitVec 32 := 8191#32
  let v929 : BitVec 32 := Scalar.andi v928 c8191_i32_388
  let v937 : Index := Scalar.indexCast v929
  let c0_392 : Index := 0#32
  ![v937.toNat, 0]

def k0_chk310 (i : grid0.Coords) (v13 : BitVec 32) (v927 : BitVec 32) : Prop :=
  (∀ (k0_h5 : k0_cond5 i v13 = 1#1), 8 ∣ (k0_mult307 v927).toNat) ∧
  (∀ (k0_h5 : k0_cond5 i v13 = 1#1), ∀ a, (k0_off685 v927) a + S8x128.size a ≤ S65536x128.size a) ∧
  (∀ (k0_h5 : k0_cond5 i v13 = 1#1), ∀ a, (k0_off686 v927) a + S1x128.size a ≤ S8192x128.size a)
theorem k0_mult307_dvd : ∀ (i : grid0.Coords) (v13 : BitVec 32) (v927 : BitVec 32) (k0_hw310 : k0_chk310 i v13 v927), ∀ (k0_h5 : k0_cond5 i v13 = 1#1), 8 ∣ (k0_mult307 v927).toNat := fun i v13 v927 k0_hw310 k0_h5 => k0_hw310.1 k0_h5
theorem k0_off685_inb : ∀ (i : grid0.Coords) (v13 : BitVec 32) (v927 : BitVec 32) (k0_hw310 : k0_chk310 i v13 v927), ∀ (k0_h5 : k0_cond5 i v13 = 1#1), ∀ a, (k0_off685 v927) a + S8x128.size a ≤ S65536x128.size a := fun i v13 v927 k0_hw310 k0_h5 => k0_hw310.2.1 k0_h5
theorem k0_off686_inb : ∀ (i : grid0.Coords) (v13 : BitVec 32) (v927 : BitVec 32) (k0_hw310 : k0_chk310 i v13 v927), ∀ (k0_h5 : k0_cond5 i v13 = 1#1), ∀ a, (k0_off686 v927) a + S1x128.size a ≤ S8192x128.size a := fun i v13 v927 k0_hw310 k0_h5 => k0_hw310.2.2 k0_h5

def k0_off687 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c51_i32 : BitVec 32 := 51#32
  let v942 : BitVec 32 := Scalar.addi v74 c51_i32
  let v943 : Index := Scalar.indexCast v942
  ![v943.toNat]
def k0_mult308 (v944 : BitVec 32) : BitVec 32 :=
  let c3_i32_394 : BitVec 32 := 3#32
  let v945 : BitVec 32 := Scalar.shrsi v944 c3_i32_394
  let c8191_i32_395 : BitVec 32 := 8191#32
  let v946 : BitVec 32 := Scalar.andi v945 c8191_i32_395
  let c8_i32_396 : BitVec 32 := 8#32
  let v947 : BitVec 32 := Scalar.muli v946 c8_i32_396
  v947

def k0_off688 (v944 : BitVec 32) : Fin 2 → Nat :=
  let c3_i32_394 : BitVec 32 := 3#32
  let v945 : BitVec 32 := Scalar.shrsi v944 c3_i32_394
  let c8191_i32_395 : BitVec 32 := 8191#32
  let v946 : BitVec 32 := Scalar.andi v945 c8191_i32_395
  let c8_i32_396 : BitVec 32 := 8#32
  let v947 : BitVec 32 := Scalar.muli v946 c8_i32_396
  let v948 : BitVec 32 := v947
  let v949 : Index := Scalar.indexCast v948
  let c0_397 : Index := 0#32
  ![v949.toNat, 0]
def k0_off689 (v944 : BitVec 32) : Fin 2 → Nat :=
  let c3_i32_394 : BitVec 32 := 3#32
  let v945 : BitVec 32 := Scalar.shrsi v944 c3_i32_394
  let c8191_i32_395 : BitVec 32 := 8191#32
  let v946 : BitVec 32 := Scalar.andi v945 c8191_i32_395
  let v954 : Index := Scalar.indexCast v946
  let c0_399 : Index := 0#32
  ![v954.toNat, 0]

def k0_chk311 (i : grid0.Coords) (v13 : BitVec 32) (v944 : BitVec 32) : Prop :=
  (∀ (k0_h5 : k0_cond5 i v13 = 1#1), 8 ∣ (k0_mult308 v944).toNat) ∧
  (∀ (k0_h5 : k0_cond5 i v13 = 1#1), ∀ a, (k0_off688 v944) a + S8x128.size a ≤ S65536x128.size a) ∧
  (∀ (k0_h5 : k0_cond5 i v13 = 1#1), ∀ a, (k0_off689 v944) a + S1x128.size a ≤ S8192x128.size a)
theorem k0_mult308_dvd : ∀ (i : grid0.Coords) (v13 : BitVec 32) (v944 : BitVec 32) (k0_hw311 : k0_chk311 i v13 v944), ∀ (k0_h5 : k0_cond5 i v13 = 1#1), 8 ∣ (k0_mult308 v944).toNat := fun i v13 v944 k0_hw311 k0_h5 => k0_hw311.1 k0_h5
theorem k0_off688_inb : ∀ (i : grid0.Coords) (v13 : BitVec 32) (v944 : BitVec 32) (k0_hw311 : k0_chk311 i v13 v944), ∀ (k0_h5 : k0_cond5 i v13 = 1#1), ∀ a, (k0_off688 v944) a + S8x128.size a ≤ S65536x128.size a := fun i v13 v944 k0_hw311 k0_h5 => k0_hw311.2.1 k0_h5
theorem k0_off689_inb : ∀ (i : grid0.Coords) (v13 : BitVec 32) (v944 : BitVec 32) (k0_hw311 : k0_chk311 i v13 v944), ∀ (k0_h5 : k0_cond5 i v13 = 1#1), ∀ a, (k0_off689 v944) a + S1x128.size a ≤ S8192x128.size a := fun i v13 v944 k0_hw311 k0_h5 => k0_hw311.2.2 k0_h5

def k0_off690 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c52_i32 : BitVec 32 := 52#32
  let v959 : BitVec 32 := Scalar.addi v74 c52_i32
  let v960 : Index := Scalar.indexCast v959
  ![v960.toNat]
def k0_mult309 (v961 : BitVec 32) : BitVec 32 :=
  let c3_i32_401 : BitVec 32 := 3#32
  let v962 : BitVec 32 := Scalar.shrsi v961 c3_i32_401
  let c8191_i32_402 : BitVec 32 := 8191#32
  let v963 : BitVec 32 := Scalar.andi v962 c8191_i32_402
  let c8_i32_403 : BitVec 32 := 8#32
  let v964 : BitVec 32 := Scalar.muli v963 c8_i32_403
  v964

def k0_off691 (v961 : BitVec 32) : Fin 2 → Nat :=
  let c3_i32_401 : BitVec 32 := 3#32
  let v962 : BitVec 32 := Scalar.shrsi v961 c3_i32_401
  let c8191_i32_402 : BitVec 32 := 8191#32
  let v963 : BitVec 32 := Scalar.andi v962 c8191_i32_402
  let c8_i32_403 : BitVec 32 := 8#32
  let v964 : BitVec 32 := Scalar.muli v963 c8_i32_403
  let v965 : BitVec 32 := v964
  let v966 : Index := Scalar.indexCast v965
  let c0_404 : Index := 0#32
  ![v966.toNat, 0]
def k0_off692 (v961 : BitVec 32) : Fin 2 → Nat :=
  let c3_i32_401 : BitVec 32 := 3#32
  let v962 : BitVec 32 := Scalar.shrsi v961 c3_i32_401
  let c8191_i32_402 : BitVec 32 := 8191#32
  let v963 : BitVec 32 := Scalar.andi v962 c8191_i32_402
  let v971 : Index := Scalar.indexCast v963
  let c0_406 : Index := 0#32
  ![v971.toNat, 0]

def k0_chk312 (i : grid0.Coords) (v13 : BitVec 32) (v961 : BitVec 32) : Prop :=
  (∀ (k0_h5 : k0_cond5 i v13 = 1#1), 8 ∣ (k0_mult309 v961).toNat) ∧
  (∀ (k0_h5 : k0_cond5 i v13 = 1#1), ∀ a, (k0_off691 v961) a + S8x128.size a ≤ S65536x128.size a) ∧
  (∀ (k0_h5 : k0_cond5 i v13 = 1#1), ∀ a, (k0_off692 v961) a + S1x128.size a ≤ S8192x128.size a)
theorem k0_mult309_dvd : ∀ (i : grid0.Coords) (v13 : BitVec 32) (v961 : BitVec 32) (k0_hw312 : k0_chk312 i v13 v961), ∀ (k0_h5 : k0_cond5 i v13 = 1#1), 8 ∣ (k0_mult309 v961).toNat := fun i v13 v961 k0_hw312 k0_h5 => k0_hw312.1 k0_h5
theorem k0_off691_inb : ∀ (i : grid0.Coords) (v13 : BitVec 32) (v961 : BitVec 32) (k0_hw312 : k0_chk312 i v13 v961), ∀ (k0_h5 : k0_cond5 i v13 = 1#1), ∀ a, (k0_off691 v961) a + S8x128.size a ≤ S65536x128.size a := fun i v13 v961 k0_hw312 k0_h5 => k0_hw312.2.1 k0_h5
theorem k0_off692_inb : ∀ (i : grid0.Coords) (v13 : BitVec 32) (v961 : BitVec 32) (k0_hw312 : k0_chk312 i v13 v961), ∀ (k0_h5 : k0_cond5 i v13 = 1#1), ∀ a, (k0_off692 v961) a + S1x128.size a ≤ S8192x128.size a := fun i v13 v961 k0_hw312 k0_h5 => k0_hw312.2.2 k0_h5

def k0_off693 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c53_i32 : BitVec 32 := 53#32
  let v976 : BitVec 32 := Scalar.addi v74 c53_i32
  let v977 : Index := Scalar.indexCast v976
  ![v977.toNat]
def k0_mult310 (v978 : BitVec 32) : BitVec 32 :=
  let c3_i32_408 : BitVec 32 := 3#32
  let v979 : BitVec 32 := Scalar.shrsi v978 c3_i32_408
  let c8191_i32_409 : BitVec 32 := 8191#32
  let v980 : BitVec 32 := Scalar.andi v979 c8191_i32_409
  let c8_i32_410 : BitVec 32 := 8#32
  let v981 : BitVec 32 := Scalar.muli v980 c8_i32_410
  v981

def k0_off694 (v978 : BitVec 32) : Fin 2 → Nat :=
  let c3_i32_408 : BitVec 32 := 3#32
  let v979 : BitVec 32 := Scalar.shrsi v978 c3_i32_408
  let c8191_i32_409 : BitVec 32 := 8191#32
  let v980 : BitVec 32 := Scalar.andi v979 c8191_i32_409
  let c8_i32_410 : BitVec 32 := 8#32
  let v981 : BitVec 32 := Scalar.muli v980 c8_i32_410
  let v982 : BitVec 32 := v981
  let v983 : Index := Scalar.indexCast v982
  let c0_411 : Index := 0#32
  ![v983.toNat, 0]
def k0_off695 (v978 : BitVec 32) : Fin 2 → Nat :=
  let c3_i32_408 : BitVec 32 := 3#32
  let v979 : BitVec 32 := Scalar.shrsi v978 c3_i32_408
  let c8191_i32_409 : BitVec 32 := 8191#32
  let v980 : BitVec 32 := Scalar.andi v979 c8191_i32_409
  let v988 : Index := Scalar.indexCast v980
  let c0_413 : Index := 0#32
  ![v988.toNat, 0]

def k0_chk313 (i : grid0.Coords) (v13 : BitVec 32) (v978 : BitVec 32) : Prop :=
  (∀ (k0_h5 : k0_cond5 i v13 = 1#1), 8 ∣ (k0_mult310 v978).toNat) ∧
  (∀ (k0_h5 : k0_cond5 i v13 = 1#1), ∀ a, (k0_off694 v978) a + S8x128.size a ≤ S65536x128.size a) ∧
  (∀ (k0_h5 : k0_cond5 i v13 = 1#1), ∀ a, (k0_off695 v978) a + S1x128.size a ≤ S8192x128.size a)
theorem k0_mult310_dvd : ∀ (i : grid0.Coords) (v13 : BitVec 32) (v978 : BitVec 32) (k0_hw313 : k0_chk313 i v13 v978), ∀ (k0_h5 : k0_cond5 i v13 = 1#1), 8 ∣ (k0_mult310 v978).toNat := fun i v13 v978 k0_hw313 k0_h5 => k0_hw313.1 k0_h5
theorem k0_off694_inb : ∀ (i : grid0.Coords) (v13 : BitVec 32) (v978 : BitVec 32) (k0_hw313 : k0_chk313 i v13 v978), ∀ (k0_h5 : k0_cond5 i v13 = 1#1), ∀ a, (k0_off694 v978) a + S8x128.size a ≤ S65536x128.size a := fun i v13 v978 k0_hw313 k0_h5 => k0_hw313.2.1 k0_h5
theorem k0_off695_inb : ∀ (i : grid0.Coords) (v13 : BitVec 32) (v978 : BitVec 32) (k0_hw313 : k0_chk313 i v13 v978), ∀ (k0_h5 : k0_cond5 i v13 = 1#1), ∀ a, (k0_off695 v978) a + S1x128.size a ≤ S8192x128.size a := fun i v13 v978 k0_hw313 k0_h5 => k0_hw313.2.2 k0_h5

def k0_off696 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c54_i32 : BitVec 32 := 54#32
  let v993 : BitVec 32 := Scalar.addi v74 c54_i32
  let v994 : Index := Scalar.indexCast v993
  ![v994.toNat]
def k0_mult311 (v995 : BitVec 32) : BitVec 32 :=
  let c3_i32_415 : BitVec 32 := 3#32
  let v996 : BitVec 32 := Scalar.shrsi v995 c3_i32_415
  let c8191_i32_416 : BitVec 32 := 8191#32
  let v997 : BitVec 32 := Scalar.andi v996 c8191_i32_416
  let c8_i32_417 : BitVec 32 := 8#32
  let v998 : BitVec 32 := Scalar.muli v997 c8_i32_417
  v998

def k0_off697 (v995 : BitVec 32) : Fin 2 → Nat :=
  let c3_i32_415 : BitVec 32 := 3#32
  let v996 : BitVec 32 := Scalar.shrsi v995 c3_i32_415
  let c8191_i32_416 : BitVec 32 := 8191#32
  let v997 : BitVec 32 := Scalar.andi v996 c8191_i32_416
  let c8_i32_417 : BitVec 32 := 8#32
  let v998 : BitVec 32 := Scalar.muli v997 c8_i32_417
  let v999 : BitVec 32 := v998
  let v1000 : Index := Scalar.indexCast v999
  let c0_418 : Index := 0#32
  ![v1000.toNat, 0]
def k0_off698 (v995 : BitVec 32) : Fin 2 → Nat :=
  let c3_i32_415 : BitVec 32 := 3#32
  let v996 : BitVec 32 := Scalar.shrsi v995 c3_i32_415
  let c8191_i32_416 : BitVec 32 := 8191#32
  let v997 : BitVec 32 := Scalar.andi v996 c8191_i32_416
  let v1005 : Index := Scalar.indexCast v997
  let c0_420 : Index := 0#32
  ![v1005.toNat, 0]

def k0_chk314 (i : grid0.Coords) (v13 : BitVec 32) (v995 : BitVec 32) : Prop :=
  (∀ (k0_h5 : k0_cond5 i v13 = 1#1), 8 ∣ (k0_mult311 v995).toNat) ∧
  (∀ (k0_h5 : k0_cond5 i v13 = 1#1), ∀ a, (k0_off697 v995) a + S8x128.size a ≤ S65536x128.size a) ∧
  (∀ (k0_h5 : k0_cond5 i v13 = 1#1), ∀ a, (k0_off698 v995) a + S1x128.size a ≤ S8192x128.size a)
theorem k0_mult311_dvd : ∀ (i : grid0.Coords) (v13 : BitVec 32) (v995 : BitVec 32) (k0_hw314 : k0_chk314 i v13 v995), ∀ (k0_h5 : k0_cond5 i v13 = 1#1), 8 ∣ (k0_mult311 v995).toNat := fun i v13 v995 k0_hw314 k0_h5 => k0_hw314.1 k0_h5
theorem k0_off697_inb : ∀ (i : grid0.Coords) (v13 : BitVec 32) (v995 : BitVec 32) (k0_hw314 : k0_chk314 i v13 v995), ∀ (k0_h5 : k0_cond5 i v13 = 1#1), ∀ a, (k0_off697 v995) a + S8x128.size a ≤ S65536x128.size a := fun i v13 v995 k0_hw314 k0_h5 => k0_hw314.2.1 k0_h5
theorem k0_off698_inb : ∀ (i : grid0.Coords) (v13 : BitVec 32) (v995 : BitVec 32) (k0_hw314 : k0_chk314 i v13 v995), ∀ (k0_h5 : k0_cond5 i v13 = 1#1), ∀ a, (k0_off698 v995) a + S1x128.size a ≤ S8192x128.size a := fun i v13 v995 k0_hw314 k0_h5 => k0_hw314.2.2 k0_h5

def k0_off699 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c55_i32 : BitVec 32 := 55#32
  let v1010 : BitVec 32 := Scalar.addi v74 c55_i32
  let v1011 : Index := Scalar.indexCast v1010
  ![v1011.toNat]
def k0_mult312 (v1012 : BitVec 32) : BitVec 32 :=
  let c3_i32_422 : BitVec 32 := 3#32
  let v1013 : BitVec 32 := Scalar.shrsi v1012 c3_i32_422
  let c8191_i32_423 : BitVec 32 := 8191#32
  let v1014 : BitVec 32 := Scalar.andi v1013 c8191_i32_423
  let c8_i32_424 : BitVec 32 := 8#32
  let v1015 : BitVec 32 := Scalar.muli v1014 c8_i32_424
  v1015

def k0_off700 (v1012 : BitVec 32) : Fin 2 → Nat :=
  let c3_i32_422 : BitVec 32 := 3#32
  let v1013 : BitVec 32 := Scalar.shrsi v1012 c3_i32_422
  let c8191_i32_423 : BitVec 32 := 8191#32
  let v1014 : BitVec 32 := Scalar.andi v1013 c8191_i32_423
  let c8_i32_424 : BitVec 32 := 8#32
  let v1015 : BitVec 32 := Scalar.muli v1014 c8_i32_424
  let v1016 : BitVec 32 := v1015
  let v1017 : Index := Scalar.indexCast v1016
  let c0_425 : Index := 0#32
  ![v1017.toNat, 0]
def k0_off701 (v1012 : BitVec 32) : Fin 2 → Nat :=
  let c3_i32_422 : BitVec 32 := 3#32
  let v1013 : BitVec 32 := Scalar.shrsi v1012 c3_i32_422
  let c8191_i32_423 : BitVec 32 := 8191#32
  let v1014 : BitVec 32 := Scalar.andi v1013 c8191_i32_423
  let v1022 : Index := Scalar.indexCast v1014
  let c0_427 : Index := 0#32
  ![v1022.toNat, 0]

def k0_chk315 (i : grid0.Coords) (v13 : BitVec 32) (v1012 : BitVec 32) : Prop :=
  (∀ (k0_h5 : k0_cond5 i v13 = 1#1), 8 ∣ (k0_mult312 v1012).toNat) ∧
  (∀ (k0_h5 : k0_cond5 i v13 = 1#1), ∀ a, (k0_off700 v1012) a + S8x128.size a ≤ S65536x128.size a) ∧
  (∀ (k0_h5 : k0_cond5 i v13 = 1#1), ∀ a, (k0_off701 v1012) a + S1x128.size a ≤ S8192x128.size a)
theorem k0_mult312_dvd : ∀ (i : grid0.Coords) (v13 : BitVec 32) (v1012 : BitVec 32) (k0_hw315 : k0_chk315 i v13 v1012), ∀ (k0_h5 : k0_cond5 i v13 = 1#1), 8 ∣ (k0_mult312 v1012).toNat := fun i v13 v1012 k0_hw315 k0_h5 => k0_hw315.1 k0_h5
theorem k0_off700_inb : ∀ (i : grid0.Coords) (v13 : BitVec 32) (v1012 : BitVec 32) (k0_hw315 : k0_chk315 i v13 v1012), ∀ (k0_h5 : k0_cond5 i v13 = 1#1), ∀ a, (k0_off700 v1012) a + S8x128.size a ≤ S65536x128.size a := fun i v13 v1012 k0_hw315 k0_h5 => k0_hw315.2.1 k0_h5
theorem k0_off701_inb : ∀ (i : grid0.Coords) (v13 : BitVec 32) (v1012 : BitVec 32) (k0_hw315 : k0_chk315 i v13 v1012), ∀ (k0_h5 : k0_cond5 i v13 = 1#1), ∀ a, (k0_off701 v1012) a + S1x128.size a ≤ S8192x128.size a := fun i v13 v1012 k0_hw315 k0_h5 => k0_hw315.2.2 k0_h5

def k0_off702 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c56_i32 : BitVec 32 := 56#32
  let v1027 : BitVec 32 := Scalar.addi v74 c56_i32
  let v1028 : Index := Scalar.indexCast v1027
  ![v1028.toNat]
def k0_mult313 (v1029 : BitVec 32) : BitVec 32 :=
  let c3_i32_429 : BitVec 32 := 3#32
  let v1030 : BitVec 32 := Scalar.shrsi v1029 c3_i32_429
  let c8191_i32_430 : BitVec 32 := 8191#32
  let v1031 : BitVec 32 := Scalar.andi v1030 c8191_i32_430
  let c8_i32_431 : BitVec 32 := 8#32
  let v1032 : BitVec 32 := Scalar.muli v1031 c8_i32_431
  v1032

def k0_off703 (v1029 : BitVec 32) : Fin 2 → Nat :=
  let c3_i32_429 : BitVec 32 := 3#32
  let v1030 : BitVec 32 := Scalar.shrsi v1029 c3_i32_429
  let c8191_i32_430 : BitVec 32 := 8191#32
  let v1031 : BitVec 32 := Scalar.andi v1030 c8191_i32_430
  let c8_i32_431 : BitVec 32 := 8#32
  let v1032 : BitVec 32 := Scalar.muli v1031 c8_i32_431
  let v1033 : BitVec 32 := v1032
  let v1034 : Index := Scalar.indexCast v1033
  let c0_432 : Index := 0#32
  ![v1034.toNat, 0]
def k0_off704 (v1029 : BitVec 32) : Fin 2 → Nat :=
  let c3_i32_429 : BitVec 32 := 3#32
  let v1030 : BitVec 32 := Scalar.shrsi v1029 c3_i32_429
  let c8191_i32_430 : BitVec 32 := 8191#32
  let v1031 : BitVec 32 := Scalar.andi v1030 c8191_i32_430
  let v1039 : Index := Scalar.indexCast v1031
  let c0_434 : Index := 0#32
  ![v1039.toNat, 0]

def k0_chk316 (i : grid0.Coords) (v13 : BitVec 32) (v1029 : BitVec 32) : Prop :=
  (∀ (k0_h5 : k0_cond5 i v13 = 1#1), 8 ∣ (k0_mult313 v1029).toNat) ∧
  (∀ (k0_h5 : k0_cond5 i v13 = 1#1), ∀ a, (k0_off703 v1029) a + S8x128.size a ≤ S65536x128.size a) ∧
  (∀ (k0_h5 : k0_cond5 i v13 = 1#1), ∀ a, (k0_off704 v1029) a + S1x128.size a ≤ S8192x128.size a)
theorem k0_mult313_dvd : ∀ (i : grid0.Coords) (v13 : BitVec 32) (v1029 : BitVec 32) (k0_hw316 : k0_chk316 i v13 v1029), ∀ (k0_h5 : k0_cond5 i v13 = 1#1), 8 ∣ (k0_mult313 v1029).toNat := fun i v13 v1029 k0_hw316 k0_h5 => k0_hw316.1 k0_h5
theorem k0_off703_inb : ∀ (i : grid0.Coords) (v13 : BitVec 32) (v1029 : BitVec 32) (k0_hw316 : k0_chk316 i v13 v1029), ∀ (k0_h5 : k0_cond5 i v13 = 1#1), ∀ a, (k0_off703 v1029) a + S8x128.size a ≤ S65536x128.size a := fun i v13 v1029 k0_hw316 k0_h5 => k0_hw316.2.1 k0_h5
theorem k0_off704_inb : ∀ (i : grid0.Coords) (v13 : BitVec 32) (v1029 : BitVec 32) (k0_hw316 : k0_chk316 i v13 v1029), ∀ (k0_h5 : k0_cond5 i v13 = 1#1), ∀ a, (k0_off704 v1029) a + S1x128.size a ≤ S8192x128.size a := fun i v13 v1029 k0_hw316 k0_h5 => k0_hw316.2.2 k0_h5

def k0_off705 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c57_i32 : BitVec 32 := 57#32
  let v1044 : BitVec 32 := Scalar.addi v74 c57_i32
  let v1045 : Index := Scalar.indexCast v1044
  ![v1045.toNat]
def k0_mult314 (v1046 : BitVec 32) : BitVec 32 :=
  let c3_i32_437 : BitVec 32 := 3#32
  let v1047 : BitVec 32 := Scalar.shrsi v1046 c3_i32_437
  let c8191_i32_438 : BitVec 32 := 8191#32
  let v1048 : BitVec 32 := Scalar.andi v1047 c8191_i32_438
  let c8_i32_439 : BitVec 32 := 8#32
  let v1049 : BitVec 32 := Scalar.muli v1048 c8_i32_439
  v1049

def k0_off706 (v1046 : BitVec 32) : Fin 2 → Nat :=
  let c3_i32_437 : BitVec 32 := 3#32
  let v1047 : BitVec 32 := Scalar.shrsi v1046 c3_i32_437
  let c8191_i32_438 : BitVec 32 := 8191#32
  let v1048 : BitVec 32 := Scalar.andi v1047 c8191_i32_438
  let c8_i32_439 : BitVec 32 := 8#32
  let v1049 : BitVec 32 := Scalar.muli v1048 c8_i32_439
  let v1050 : BitVec 32 := v1049
  let v1051 : Index := Scalar.indexCast v1050
  let c0_440 : Index := 0#32
  ![v1051.toNat, 0]
def k0_off707 (v1046 : BitVec 32) : Fin 2 → Nat :=
  let c3_i32_437 : BitVec 32 := 3#32
  let v1047 : BitVec 32 := Scalar.shrsi v1046 c3_i32_437
  let c8191_i32_438 : BitVec 32 := 8191#32
  let v1048 : BitVec 32 := Scalar.andi v1047 c8191_i32_438
  let v1056 : Index := Scalar.indexCast v1048
  let c0_442 : Index := 0#32
  ![v1056.toNat, 0]

def k0_chk317 (i : grid0.Coords) (v13 : BitVec 32) (v1046 : BitVec 32) : Prop :=
  (∀ (k0_h5 : k0_cond5 i v13 = 1#1), 8 ∣ (k0_mult314 v1046).toNat) ∧
  (∀ (k0_h5 : k0_cond5 i v13 = 1#1), ∀ a, (k0_off706 v1046) a + S8x128.size a ≤ S65536x128.size a) ∧
  (∀ (k0_h5 : k0_cond5 i v13 = 1#1), ∀ a, (k0_off707 v1046) a + S1x128.size a ≤ S8192x128.size a)
theorem k0_mult314_dvd : ∀ (i : grid0.Coords) (v13 : BitVec 32) (v1046 : BitVec 32) (k0_hw317 : k0_chk317 i v13 v1046), ∀ (k0_h5 : k0_cond5 i v13 = 1#1), 8 ∣ (k0_mult314 v1046).toNat := fun i v13 v1046 k0_hw317 k0_h5 => k0_hw317.1 k0_h5
theorem k0_off706_inb : ∀ (i : grid0.Coords) (v13 : BitVec 32) (v1046 : BitVec 32) (k0_hw317 : k0_chk317 i v13 v1046), ∀ (k0_h5 : k0_cond5 i v13 = 1#1), ∀ a, (k0_off706 v1046) a + S8x128.size a ≤ S65536x128.size a := fun i v13 v1046 k0_hw317 k0_h5 => k0_hw317.2.1 k0_h5
theorem k0_off707_inb : ∀ (i : grid0.Coords) (v13 : BitVec 32) (v1046 : BitVec 32) (k0_hw317 : k0_chk317 i v13 v1046), ∀ (k0_h5 : k0_cond5 i v13 = 1#1), ∀ a, (k0_off707 v1046) a + S1x128.size a ≤ S8192x128.size a := fun i v13 v1046 k0_hw317 k0_h5 => k0_hw317.2.2 k0_h5

def k0_off708 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c58_i32 : BitVec 32 := 58#32
  let v1061 : BitVec 32 := Scalar.addi v74 c58_i32
  let v1062 : Index := Scalar.indexCast v1061
  ![v1062.toNat]
def k0_mult315 (v1063 : BitVec 32) : BitVec 32 :=
  let c3_i32_444 : BitVec 32 := 3#32
  let v1064 : BitVec 32 := Scalar.shrsi v1063 c3_i32_444
  let c8191_i32_445 : BitVec 32 := 8191#32
  let v1065 : BitVec 32 := Scalar.andi v1064 c8191_i32_445
  let c8_i32_446 : BitVec 32 := 8#32
  let v1066 : BitVec 32 := Scalar.muli v1065 c8_i32_446
  v1066

def k0_off709 (v1063 : BitVec 32) : Fin 2 → Nat :=
  let c3_i32_444 : BitVec 32 := 3#32
  let v1064 : BitVec 32 := Scalar.shrsi v1063 c3_i32_444
  let c8191_i32_445 : BitVec 32 := 8191#32
  let v1065 : BitVec 32 := Scalar.andi v1064 c8191_i32_445
  let c8_i32_446 : BitVec 32 := 8#32
  let v1066 : BitVec 32 := Scalar.muli v1065 c8_i32_446
  let v1067 : BitVec 32 := v1066
  let v1068 : Index := Scalar.indexCast v1067
  let c0_447 : Index := 0#32
  ![v1068.toNat, 0]
def k0_off710 (v1063 : BitVec 32) : Fin 2 → Nat :=
  let c3_i32_444 : BitVec 32 := 3#32
  let v1064 : BitVec 32 := Scalar.shrsi v1063 c3_i32_444
  let c8191_i32_445 : BitVec 32 := 8191#32
  let v1065 : BitVec 32 := Scalar.andi v1064 c8191_i32_445
  let v1073 : Index := Scalar.indexCast v1065
  let c0_449 : Index := 0#32
  ![v1073.toNat, 0]

def k0_chk318 (i : grid0.Coords) (v13 : BitVec 32) (v1063 : BitVec 32) : Prop :=
  (∀ (k0_h5 : k0_cond5 i v13 = 1#1), 8 ∣ (k0_mult315 v1063).toNat) ∧
  (∀ (k0_h5 : k0_cond5 i v13 = 1#1), ∀ a, (k0_off709 v1063) a + S8x128.size a ≤ S65536x128.size a) ∧
  (∀ (k0_h5 : k0_cond5 i v13 = 1#1), ∀ a, (k0_off710 v1063) a + S1x128.size a ≤ S8192x128.size a)
theorem k0_mult315_dvd : ∀ (i : grid0.Coords) (v13 : BitVec 32) (v1063 : BitVec 32) (k0_hw318 : k0_chk318 i v13 v1063), ∀ (k0_h5 : k0_cond5 i v13 = 1#1), 8 ∣ (k0_mult315 v1063).toNat := fun i v13 v1063 k0_hw318 k0_h5 => k0_hw318.1 k0_h5
theorem k0_off709_inb : ∀ (i : grid0.Coords) (v13 : BitVec 32) (v1063 : BitVec 32) (k0_hw318 : k0_chk318 i v13 v1063), ∀ (k0_h5 : k0_cond5 i v13 = 1#1), ∀ a, (k0_off709 v1063) a + S8x128.size a ≤ S65536x128.size a := fun i v13 v1063 k0_hw318 k0_h5 => k0_hw318.2.1 k0_h5
theorem k0_off710_inb : ∀ (i : grid0.Coords) (v13 : BitVec 32) (v1063 : BitVec 32) (k0_hw318 : k0_chk318 i v13 v1063), ∀ (k0_h5 : k0_cond5 i v13 = 1#1), ∀ a, (k0_off710 v1063) a + S1x128.size a ≤ S8192x128.size a := fun i v13 v1063 k0_hw318 k0_h5 => k0_hw318.2.2 k0_h5

def k0_off711 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c59_i32 : BitVec 32 := 59#32
  let v1078 : BitVec 32 := Scalar.addi v74 c59_i32
  let v1079 : Index := Scalar.indexCast v1078
  ![v1079.toNat]
def k0_mult316 (v1080 : BitVec 32) : BitVec 32 :=
  let c3_i32_451 : BitVec 32 := 3#32
  let v1081 : BitVec 32 := Scalar.shrsi v1080 c3_i32_451
  let c8191_i32_452 : BitVec 32 := 8191#32
  let v1082 : BitVec 32 := Scalar.andi v1081 c8191_i32_452
  let c8_i32_453 : BitVec 32 := 8#32
  let v1083 : BitVec 32 := Scalar.muli v1082 c8_i32_453
  v1083

def k0_off712 (v1080 : BitVec 32) : Fin 2 → Nat :=
  let c3_i32_451 : BitVec 32 := 3#32
  let v1081 : BitVec 32 := Scalar.shrsi v1080 c3_i32_451
  let c8191_i32_452 : BitVec 32 := 8191#32
  let v1082 : BitVec 32 := Scalar.andi v1081 c8191_i32_452
  let c8_i32_453 : BitVec 32 := 8#32
  let v1083 : BitVec 32 := Scalar.muli v1082 c8_i32_453
  let v1084 : BitVec 32 := v1083
  let v1085 : Index := Scalar.indexCast v1084
  let c0_454 : Index := 0#32
  ![v1085.toNat, 0]
def k0_off713 (v1080 : BitVec 32) : Fin 2 → Nat :=
  let c3_i32_451 : BitVec 32 := 3#32
  let v1081 : BitVec 32 := Scalar.shrsi v1080 c3_i32_451
  let c8191_i32_452 : BitVec 32 := 8191#32
  let v1082 : BitVec 32 := Scalar.andi v1081 c8191_i32_452
  let v1090 : Index := Scalar.indexCast v1082
  let c0_456 : Index := 0#32
  ![v1090.toNat, 0]

def k0_chk319 (i : grid0.Coords) (v13 : BitVec 32) (v1080 : BitVec 32) : Prop :=
  (∀ (k0_h5 : k0_cond5 i v13 = 1#1), 8 ∣ (k0_mult316 v1080).toNat) ∧
  (∀ (k0_h5 : k0_cond5 i v13 = 1#1), ∀ a, (k0_off712 v1080) a + S8x128.size a ≤ S65536x128.size a) ∧
  (∀ (k0_h5 : k0_cond5 i v13 = 1#1), ∀ a, (k0_off713 v1080) a + S1x128.size a ≤ S8192x128.size a)
theorem k0_mult316_dvd : ∀ (i : grid0.Coords) (v13 : BitVec 32) (v1080 : BitVec 32) (k0_hw319 : k0_chk319 i v13 v1080), ∀ (k0_h5 : k0_cond5 i v13 = 1#1), 8 ∣ (k0_mult316 v1080).toNat := fun i v13 v1080 k0_hw319 k0_h5 => k0_hw319.1 k0_h5
theorem k0_off712_inb : ∀ (i : grid0.Coords) (v13 : BitVec 32) (v1080 : BitVec 32) (k0_hw319 : k0_chk319 i v13 v1080), ∀ (k0_h5 : k0_cond5 i v13 = 1#1), ∀ a, (k0_off712 v1080) a + S8x128.size a ≤ S65536x128.size a := fun i v13 v1080 k0_hw319 k0_h5 => k0_hw319.2.1 k0_h5
theorem k0_off713_inb : ∀ (i : grid0.Coords) (v13 : BitVec 32) (v1080 : BitVec 32) (k0_hw319 : k0_chk319 i v13 v1080), ∀ (k0_h5 : k0_cond5 i v13 = 1#1), ∀ a, (k0_off713 v1080) a + S1x128.size a ≤ S8192x128.size a := fun i v13 v1080 k0_hw319 k0_h5 => k0_hw319.2.2 k0_h5

def k0_off714 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c60_i32 : BitVec 32 := 60#32
  let v1095 : BitVec 32 := Scalar.addi v74 c60_i32
  let v1096 : Index := Scalar.indexCast v1095
  ![v1096.toNat]
def k0_mult317 (v1097 : BitVec 32) : BitVec 32 :=
  let c3_i32_458 : BitVec 32 := 3#32
  let v1098 : BitVec 32 := Scalar.shrsi v1097 c3_i32_458
  let c8191_i32_459 : BitVec 32 := 8191#32
  let v1099 : BitVec 32 := Scalar.andi v1098 c8191_i32_459
  let c8_i32_460 : BitVec 32 := 8#32
  let v1100 : BitVec 32 := Scalar.muli v1099 c8_i32_460
  v1100

def k0_off715 (v1097 : BitVec 32) : Fin 2 → Nat :=
  let c3_i32_458 : BitVec 32 := 3#32
  let v1098 : BitVec 32 := Scalar.shrsi v1097 c3_i32_458
  let c8191_i32_459 : BitVec 32 := 8191#32
  let v1099 : BitVec 32 := Scalar.andi v1098 c8191_i32_459
  let c8_i32_460 : BitVec 32 := 8#32
  let v1100 : BitVec 32 := Scalar.muli v1099 c8_i32_460
  let v1101 : BitVec 32 := v1100
  let v1102 : Index := Scalar.indexCast v1101
  let c0_461 : Index := 0#32
  ![v1102.toNat, 0]
def k0_off716 (v1097 : BitVec 32) : Fin 2 → Nat :=
  let c3_i32_458 : BitVec 32 := 3#32
  let v1098 : BitVec 32 := Scalar.shrsi v1097 c3_i32_458
  let c8191_i32_459 : BitVec 32 := 8191#32
  let v1099 : BitVec 32 := Scalar.andi v1098 c8191_i32_459
  let v1107 : Index := Scalar.indexCast v1099
  let c0_463 : Index := 0#32
  ![v1107.toNat, 0]

def k0_chk320 (i : grid0.Coords) (v13 : BitVec 32) (v1097 : BitVec 32) : Prop :=
  (∀ (k0_h5 : k0_cond5 i v13 = 1#1), 8 ∣ (k0_mult317 v1097).toNat) ∧
  (∀ (k0_h5 : k0_cond5 i v13 = 1#1), ∀ a, (k0_off715 v1097) a + S8x128.size a ≤ S65536x128.size a) ∧
  (∀ (k0_h5 : k0_cond5 i v13 = 1#1), ∀ a, (k0_off716 v1097) a + S1x128.size a ≤ S8192x128.size a)
theorem k0_mult317_dvd : ∀ (i : grid0.Coords) (v13 : BitVec 32) (v1097 : BitVec 32) (k0_hw320 : k0_chk320 i v13 v1097), ∀ (k0_h5 : k0_cond5 i v13 = 1#1), 8 ∣ (k0_mult317 v1097).toNat := fun i v13 v1097 k0_hw320 k0_h5 => k0_hw320.1 k0_h5
theorem k0_off715_inb : ∀ (i : grid0.Coords) (v13 : BitVec 32) (v1097 : BitVec 32) (k0_hw320 : k0_chk320 i v13 v1097), ∀ (k0_h5 : k0_cond5 i v13 = 1#1), ∀ a, (k0_off715 v1097) a + S8x128.size a ≤ S65536x128.size a := fun i v13 v1097 k0_hw320 k0_h5 => k0_hw320.2.1 k0_h5
theorem k0_off716_inb : ∀ (i : grid0.Coords) (v13 : BitVec 32) (v1097 : BitVec 32) (k0_hw320 : k0_chk320 i v13 v1097), ∀ (k0_h5 : k0_cond5 i v13 = 1#1), ∀ a, (k0_off716 v1097) a + S1x128.size a ≤ S8192x128.size a := fun i v13 v1097 k0_hw320 k0_h5 => k0_hw320.2.2 k0_h5

def k0_off717 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c61_i32 : BitVec 32 := 61#32
  let v1112 : BitVec 32 := Scalar.addi v74 c61_i32
  let v1113 : Index := Scalar.indexCast v1112
  ![v1113.toNat]
def k0_mult318 (v1114 : BitVec 32) : BitVec 32 :=
  let c3_i32_465 : BitVec 32 := 3#32
  let v1115 : BitVec 32 := Scalar.shrsi v1114 c3_i32_465
  let c8191_i32_466 : BitVec 32 := 8191#32
  let v1116 : BitVec 32 := Scalar.andi v1115 c8191_i32_466
  let c8_i32_467 : BitVec 32 := 8#32
  let v1117 : BitVec 32 := Scalar.muli v1116 c8_i32_467
  v1117

def k0_off718 (v1114 : BitVec 32) : Fin 2 → Nat :=
  let c3_i32_465 : BitVec 32 := 3#32
  let v1115 : BitVec 32 := Scalar.shrsi v1114 c3_i32_465
  let c8191_i32_466 : BitVec 32 := 8191#32
  let v1116 : BitVec 32 := Scalar.andi v1115 c8191_i32_466
  let c8_i32_467 : BitVec 32 := 8#32
  let v1117 : BitVec 32 := Scalar.muli v1116 c8_i32_467
  let v1118 : BitVec 32 := v1117
  let v1119 : Index := Scalar.indexCast v1118
  let c0_468 : Index := 0#32
  ![v1119.toNat, 0]
def k0_off719 (v1114 : BitVec 32) : Fin 2 → Nat :=
  let c3_i32_465 : BitVec 32 := 3#32
  let v1115 : BitVec 32 := Scalar.shrsi v1114 c3_i32_465
  let c8191_i32_466 : BitVec 32 := 8191#32
  let v1116 : BitVec 32 := Scalar.andi v1115 c8191_i32_466
  let v1124 : Index := Scalar.indexCast v1116
  let c0_470 : Index := 0#32
  ![v1124.toNat, 0]

def k0_chk321 (i : grid0.Coords) (v13 : BitVec 32) (v1114 : BitVec 32) : Prop :=
  (∀ (k0_h5 : k0_cond5 i v13 = 1#1), 8 ∣ (k0_mult318 v1114).toNat) ∧
  (∀ (k0_h5 : k0_cond5 i v13 = 1#1), ∀ a, (k0_off718 v1114) a + S8x128.size a ≤ S65536x128.size a) ∧
  (∀ (k0_h5 : k0_cond5 i v13 = 1#1), ∀ a, (k0_off719 v1114) a + S1x128.size a ≤ S8192x128.size a)
theorem k0_mult318_dvd : ∀ (i : grid0.Coords) (v13 : BitVec 32) (v1114 : BitVec 32) (k0_hw321 : k0_chk321 i v13 v1114), ∀ (k0_h5 : k0_cond5 i v13 = 1#1), 8 ∣ (k0_mult318 v1114).toNat := fun i v13 v1114 k0_hw321 k0_h5 => k0_hw321.1 k0_h5
theorem k0_off718_inb : ∀ (i : grid0.Coords) (v13 : BitVec 32) (v1114 : BitVec 32) (k0_hw321 : k0_chk321 i v13 v1114), ∀ (k0_h5 : k0_cond5 i v13 = 1#1), ∀ a, (k0_off718 v1114) a + S8x128.size a ≤ S65536x128.size a := fun i v13 v1114 k0_hw321 k0_h5 => k0_hw321.2.1 k0_h5
theorem k0_off719_inb : ∀ (i : grid0.Coords) (v13 : BitVec 32) (v1114 : BitVec 32) (k0_hw321 : k0_chk321 i v13 v1114), ∀ (k0_h5 : k0_cond5 i v13 = 1#1), ∀ a, (k0_off719 v1114) a + S1x128.size a ≤ S8192x128.size a := fun i v13 v1114 k0_hw321 k0_h5 => k0_hw321.2.2 k0_h5

def k0_off720 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c62_i32 : BitVec 32 := 62#32
  let v1129 : BitVec 32 := Scalar.addi v74 c62_i32
  let v1130 : Index := Scalar.indexCast v1129
  ![v1130.toNat]
def k0_mult319 (v1131 : BitVec 32) : BitVec 32 :=
  let c3_i32_472 : BitVec 32 := 3#32
  let v1132 : BitVec 32 := Scalar.shrsi v1131 c3_i32_472
  let c8191_i32_473 : BitVec 32 := 8191#32
  let v1133 : BitVec 32 := Scalar.andi v1132 c8191_i32_473
  let c8_i32_474 : BitVec 32 := 8#32
  let v1134 : BitVec 32 := Scalar.muli v1133 c8_i32_474
  v1134

def k0_off721 (v1131 : BitVec 32) : Fin 2 → Nat :=
  let c3_i32_472 : BitVec 32 := 3#32
  let v1132 : BitVec 32 := Scalar.shrsi v1131 c3_i32_472
  let c8191_i32_473 : BitVec 32 := 8191#32
  let v1133 : BitVec 32 := Scalar.andi v1132 c8191_i32_473
  let c8_i32_474 : BitVec 32 := 8#32
  let v1134 : BitVec 32 := Scalar.muli v1133 c8_i32_474
  let v1135 : BitVec 32 := v1134
  let v1136 : Index := Scalar.indexCast v1135
  let c0_475 : Index := 0#32
  ![v1136.toNat, 0]
def k0_off722 (v1131 : BitVec 32) : Fin 2 → Nat :=
  let c3_i32_472 : BitVec 32 := 3#32
  let v1132 : BitVec 32 := Scalar.shrsi v1131 c3_i32_472
  let c8191_i32_473 : BitVec 32 := 8191#32
  let v1133 : BitVec 32 := Scalar.andi v1132 c8191_i32_473
  let v1141 : Index := Scalar.indexCast v1133
  let c0_477 : Index := 0#32
  ![v1141.toNat, 0]

def k0_chk322 (i : grid0.Coords) (v13 : BitVec 32) (v1131 : BitVec 32) : Prop :=
  (∀ (k0_h5 : k0_cond5 i v13 = 1#1), 8 ∣ (k0_mult319 v1131).toNat) ∧
  (∀ (k0_h5 : k0_cond5 i v13 = 1#1), ∀ a, (k0_off721 v1131) a + S8x128.size a ≤ S65536x128.size a) ∧
  (∀ (k0_h5 : k0_cond5 i v13 = 1#1), ∀ a, (k0_off722 v1131) a + S1x128.size a ≤ S8192x128.size a)
theorem k0_mult319_dvd : ∀ (i : grid0.Coords) (v13 : BitVec 32) (v1131 : BitVec 32) (k0_hw322 : k0_chk322 i v13 v1131), ∀ (k0_h5 : k0_cond5 i v13 = 1#1), 8 ∣ (k0_mult319 v1131).toNat := fun i v13 v1131 k0_hw322 k0_h5 => k0_hw322.1 k0_h5
theorem k0_off721_inb : ∀ (i : grid0.Coords) (v13 : BitVec 32) (v1131 : BitVec 32) (k0_hw322 : k0_chk322 i v13 v1131), ∀ (k0_h5 : k0_cond5 i v13 = 1#1), ∀ a, (k0_off721 v1131) a + S8x128.size a ≤ S65536x128.size a := fun i v13 v1131 k0_hw322 k0_h5 => k0_hw322.2.1 k0_h5
theorem k0_off722_inb : ∀ (i : grid0.Coords) (v13 : BitVec 32) (v1131 : BitVec 32) (k0_hw322 : k0_chk322 i v13 v1131), ∀ (k0_h5 : k0_cond5 i v13 = 1#1), ∀ a, (k0_off722 v1131) a + S1x128.size a ≤ S8192x128.size a := fun i v13 v1131 k0_hw322 k0_h5 => k0_hw322.2.2 k0_h5

def k0_off723 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c63_i32 : BitVec 32 := 63#32
  let v1146 : BitVec 32 := Scalar.addi v74 c63_i32
  let v1147 : Index := Scalar.indexCast v1146
  ![v1147.toNat]
def k0_mult320 (v1148 : BitVec 32) : BitVec 32 :=
  let c3_i32_479 : BitVec 32 := 3#32
  let v1149 : BitVec 32 := Scalar.shrsi v1148 c3_i32_479
  let c8191_i32_480 : BitVec 32 := 8191#32
  let v1150 : BitVec 32 := Scalar.andi v1149 c8191_i32_480
  let c8_i32_481 : BitVec 32 := 8#32
  let v1151 : BitVec 32 := Scalar.muli v1150 c8_i32_481
  v1151

def k0_off724 (v1148 : BitVec 32) : Fin 2 → Nat :=
  let c3_i32_479 : BitVec 32 := 3#32
  let v1149 : BitVec 32 := Scalar.shrsi v1148 c3_i32_479
  let c8191_i32_480 : BitVec 32 := 8191#32
  let v1150 : BitVec 32 := Scalar.andi v1149 c8191_i32_480
  let c8_i32_481 : BitVec 32 := 8#32
  let v1151 : BitVec 32 := Scalar.muli v1150 c8_i32_481
  let v1152 : BitVec 32 := v1151
  let v1153 : Index := Scalar.indexCast v1152
  let c0_482 : Index := 0#32
  ![v1153.toNat, 0]
def k0_off725 (v1148 : BitVec 32) : Fin 2 → Nat :=
  let c3_i32_479 : BitVec 32 := 3#32
  let v1149 : BitVec 32 := Scalar.shrsi v1148 c3_i32_479
  let c8191_i32_480 : BitVec 32 := 8191#32
  let v1150 : BitVec 32 := Scalar.andi v1149 c8191_i32_480
  let v1158 : Index := Scalar.indexCast v1150
  let c0_484 : Index := 0#32
  ![v1158.toNat, 0]

def k0_chk323 (i : grid0.Coords) (v13 : BitVec 32) (v1148 : BitVec 32) : Prop :=
  (∀ (k0_h5 : k0_cond5 i v13 = 1#1), 8 ∣ (k0_mult320 v1148).toNat) ∧
  (∀ (k0_h5 : k0_cond5 i v13 = 1#1), ∀ a, (k0_off724 v1148) a + S8x128.size a ≤ S65536x128.size a) ∧
  (∀ (k0_h5 : k0_cond5 i v13 = 1#1), ∀ a, (k0_off725 v1148) a + S1x128.size a ≤ S8192x128.size a)
theorem k0_mult320_dvd : ∀ (i : grid0.Coords) (v13 : BitVec 32) (v1148 : BitVec 32) (k0_hw323 : k0_chk323 i v13 v1148), ∀ (k0_h5 : k0_cond5 i v13 = 1#1), 8 ∣ (k0_mult320 v1148).toNat := fun i v13 v1148 k0_hw323 k0_h5 => k0_hw323.1 k0_h5
theorem k0_off724_inb : ∀ (i : grid0.Coords) (v13 : BitVec 32) (v1148 : BitVec 32) (k0_hw323 : k0_chk323 i v13 v1148), ∀ (k0_h5 : k0_cond5 i v13 = 1#1), ∀ a, (k0_off724 v1148) a + S8x128.size a ≤ S65536x128.size a := fun i v13 v1148 k0_hw323 k0_h5 => k0_hw323.2.1 k0_h5
theorem k0_off725_inb : ∀ (i : grid0.Coords) (v13 : BitVec 32) (v1148 : BitVec 32) (k0_hw323 : k0_chk323 i v13 v1148), ∀ (k0_h5 : k0_cond5 i v13 = 1#1), ∀ a, (k0_off725 v1148) a + S1x128.size a ≤ S8192x128.size a := fun i v13 v1148 k0_hw323 k0_h5 => k0_hw323.2.2 k0_h5

def k0_off726 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c64_i32 : BitVec 32 := 64#32
  let v1163 : BitVec 32 := Scalar.addi v74 c64_i32
  let v1164 : Index := Scalar.indexCast v1163
  ![v1164.toNat]
def k0_mult321 (v1165 : BitVec 32) : BitVec 32 :=
  let c3_i32_486 : BitVec 32 := 3#32
  let v1166 : BitVec 32 := Scalar.shrsi v1165 c3_i32_486
  let c8191_i32_487 : BitVec 32 := 8191#32
  let v1167 : BitVec 32 := Scalar.andi v1166 c8191_i32_487
  let c8_i32_488 : BitVec 32 := 8#32
  let v1168 : BitVec 32 := Scalar.muli v1167 c8_i32_488
  v1168

def k0_off727 (v1165 : BitVec 32) : Fin 2 → Nat :=
  let c3_i32_486 : BitVec 32 := 3#32
  let v1166 : BitVec 32 := Scalar.shrsi v1165 c3_i32_486
  let c8191_i32_487 : BitVec 32 := 8191#32
  let v1167 : BitVec 32 := Scalar.andi v1166 c8191_i32_487
  let c8_i32_488 : BitVec 32 := 8#32
  let v1168 : BitVec 32 := Scalar.muli v1167 c8_i32_488
  let v1169 : BitVec 32 := v1168
  let v1170 : Index := Scalar.indexCast v1169
  let c0_489 : Index := 0#32
  ![v1170.toNat, 0]
def k0_off728 (v1165 : BitVec 32) : Fin 2 → Nat :=
  let c3_i32_486 : BitVec 32 := 3#32
  let v1166 : BitVec 32 := Scalar.shrsi v1165 c3_i32_486
  let c8191_i32_487 : BitVec 32 := 8191#32
  let v1167 : BitVec 32 := Scalar.andi v1166 c8191_i32_487
  let v1175 : Index := Scalar.indexCast v1167
  let c0_491 : Index := 0#32
  ![v1175.toNat, 0]

def k0_chk324 (i : grid0.Coords) (v13 : BitVec 32) (v1165 : BitVec 32) : Prop :=
  (∀ (k0_h5 : k0_cond5 i v13 = 1#1), 8 ∣ (k0_mult321 v1165).toNat) ∧
  (∀ (k0_h5 : k0_cond5 i v13 = 1#1), ∀ a, (k0_off727 v1165) a + S8x128.size a ≤ S65536x128.size a) ∧
  (∀ (k0_h5 : k0_cond5 i v13 = 1#1), ∀ a, (k0_off728 v1165) a + S1x128.size a ≤ S8192x128.size a)
theorem k0_mult321_dvd : ∀ (i : grid0.Coords) (v13 : BitVec 32) (v1165 : BitVec 32) (k0_hw324 : k0_chk324 i v13 v1165), ∀ (k0_h5 : k0_cond5 i v13 = 1#1), 8 ∣ (k0_mult321 v1165).toNat := fun i v13 v1165 k0_hw324 k0_h5 => k0_hw324.1 k0_h5
theorem k0_off727_inb : ∀ (i : grid0.Coords) (v13 : BitVec 32) (v1165 : BitVec 32) (k0_hw324 : k0_chk324 i v13 v1165), ∀ (k0_h5 : k0_cond5 i v13 = 1#1), ∀ a, (k0_off727 v1165) a + S8x128.size a ≤ S65536x128.size a := fun i v13 v1165 k0_hw324 k0_h5 => k0_hw324.2.1 k0_h5
theorem k0_off728_inb : ∀ (i : grid0.Coords) (v13 : BitVec 32) (v1165 : BitVec 32) (k0_hw324 : k0_chk324 i v13 v1165), ∀ (k0_h5 : k0_cond5 i v13 = 1#1), ∀ a, (k0_off728 v1165) a + S1x128.size a ≤ S8192x128.size a := fun i v13 v1165 k0_hw324 k0_h5 => k0_hw324.2.2 k0_h5

def k0_off729 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c65_i32_494 : BitVec 32 := 65#32
  let v1180 : BitVec 32 := Scalar.addi v74 c65_i32_494
  let v1181 : Index := Scalar.indexCast v1180
  ![v1181.toNat]
def k0_mult322 (v1182 : BitVec 32) : BitVec 32 :=
  let c3_i32_495 : BitVec 32 := 3#32
  let v1183 : BitVec 32 := Scalar.shrsi v1182 c3_i32_495
  let c8191_i32_496 : BitVec 32 := 8191#32
  let v1184 : BitVec 32 := Scalar.andi v1183 c8191_i32_496
  let c8_i32_497 : BitVec 32 := 8#32
  let v1185 : BitVec 32 := Scalar.muli v1184 c8_i32_497
  v1185

def k0_off730 (v1182 : BitVec 32) : Fin 2 → Nat :=
  let c3_i32_495 : BitVec 32 := 3#32
  let v1183 : BitVec 32 := Scalar.shrsi v1182 c3_i32_495
  let c8191_i32_496 : BitVec 32 := 8191#32
  let v1184 : BitVec 32 := Scalar.andi v1183 c8191_i32_496
  let c8_i32_497 : BitVec 32 := 8#32
  let v1185 : BitVec 32 := Scalar.muli v1184 c8_i32_497
  let v1186 : BitVec 32 := v1185
  let v1187 : Index := Scalar.indexCast v1186
  let c0_498 : Index := 0#32
  ![v1187.toNat, 0]
def k0_off731 (v1182 : BitVec 32) : Fin 2 → Nat :=
  let c3_i32_495 : BitVec 32 := 3#32
  let v1183 : BitVec 32 := Scalar.shrsi v1182 c3_i32_495
  let c8191_i32_496 : BitVec 32 := 8191#32
  let v1184 : BitVec 32 := Scalar.andi v1183 c8191_i32_496
  let v1192 : Index := Scalar.indexCast v1184
  let c0_500 : Index := 0#32
  ![v1192.toNat, 0]

def k0_chk325 (i : grid0.Coords) (v13 : BitVec 32) (v1182 : BitVec 32) : Prop :=
  (∀ (k0_h5 : k0_cond5 i v13 = 1#1), 8 ∣ (k0_mult322 v1182).toNat) ∧
  (∀ (k0_h5 : k0_cond5 i v13 = 1#1), ∀ a, (k0_off730 v1182) a + S8x128.size a ≤ S65536x128.size a) ∧
  (∀ (k0_h5 : k0_cond5 i v13 = 1#1), ∀ a, (k0_off731 v1182) a + S1x128.size a ≤ S8192x128.size a)
theorem k0_mult322_dvd : ∀ (i : grid0.Coords) (v13 : BitVec 32) (v1182 : BitVec 32) (k0_hw325 : k0_chk325 i v13 v1182), ∀ (k0_h5 : k0_cond5 i v13 = 1#1), 8 ∣ (k0_mult322 v1182).toNat := fun i v13 v1182 k0_hw325 k0_h5 => k0_hw325.1 k0_h5
theorem k0_off730_inb : ∀ (i : grid0.Coords) (v13 : BitVec 32) (v1182 : BitVec 32) (k0_hw325 : k0_chk325 i v13 v1182), ∀ (k0_h5 : k0_cond5 i v13 = 1#1), ∀ a, (k0_off730 v1182) a + S8x128.size a ≤ S65536x128.size a := fun i v13 v1182 k0_hw325 k0_h5 => k0_hw325.2.1 k0_h5
theorem k0_off731_inb : ∀ (i : grid0.Coords) (v13 : BitVec 32) (v1182 : BitVec 32) (k0_hw325 : k0_chk325 i v13 v1182), ∀ (k0_h5 : k0_cond5 i v13 = 1#1), ∀ a, (k0_off731 v1182) a + S1x128.size a ≤ S8192x128.size a := fun i v13 v1182 k0_hw325 k0_h5 => k0_hw325.2.2 k0_h5

def k0_off732 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c66_i32 : BitVec 32 := 66#32
  let v1197 : BitVec 32 := Scalar.addi v74 c66_i32
  let v1198 : Index := Scalar.indexCast v1197
  ![v1198.toNat]
def k0_mult323 (v1199 : BitVec 32) : BitVec 32 :=
  let c3_i32_502 : BitVec 32 := 3#32
  let v1200 : BitVec 32 := Scalar.shrsi v1199 c3_i32_502
  let c8191_i32_503 : BitVec 32 := 8191#32
  let v1201 : BitVec 32 := Scalar.andi v1200 c8191_i32_503
  let c8_i32_504 : BitVec 32 := 8#32
  let v1202 : BitVec 32 := Scalar.muli v1201 c8_i32_504
  v1202

def k0_off733 (v1199 : BitVec 32) : Fin 2 → Nat :=
  let c3_i32_502 : BitVec 32 := 3#32
  let v1200 : BitVec 32 := Scalar.shrsi v1199 c3_i32_502
  let c8191_i32_503 : BitVec 32 := 8191#32
  let v1201 : BitVec 32 := Scalar.andi v1200 c8191_i32_503
  let c8_i32_504 : BitVec 32 := 8#32
  let v1202 : BitVec 32 := Scalar.muli v1201 c8_i32_504
  let v1203 : BitVec 32 := v1202
  let v1204 : Index := Scalar.indexCast v1203
  let c0_505 : Index := 0#32
  ![v1204.toNat, 0]
def k0_off734 (v1199 : BitVec 32) : Fin 2 → Nat :=
  let c3_i32_502 : BitVec 32 := 3#32
  let v1200 : BitVec 32 := Scalar.shrsi v1199 c3_i32_502
  let c8191_i32_503 : BitVec 32 := 8191#32
  let v1201 : BitVec 32 := Scalar.andi v1200 c8191_i32_503
  let v1209 : Index := Scalar.indexCast v1201
  let c0_507 : Index := 0#32
  ![v1209.toNat, 0]

def k0_chk326 (i : grid0.Coords) (v13 : BitVec 32) (v1199 : BitVec 32) : Prop :=
  (∀ (k0_h5 : k0_cond5 i v13 = 1#1), 8 ∣ (k0_mult323 v1199).toNat) ∧
  (∀ (k0_h5 : k0_cond5 i v13 = 1#1), ∀ a, (k0_off733 v1199) a + S8x128.size a ≤ S65536x128.size a) ∧
  (∀ (k0_h5 : k0_cond5 i v13 = 1#1), ∀ a, (k0_off734 v1199) a + S1x128.size a ≤ S8192x128.size a)
theorem k0_mult323_dvd : ∀ (i : grid0.Coords) (v13 : BitVec 32) (v1199 : BitVec 32) (k0_hw326 : k0_chk326 i v13 v1199), ∀ (k0_h5 : k0_cond5 i v13 = 1#1), 8 ∣ (k0_mult323 v1199).toNat := fun i v13 v1199 k0_hw326 k0_h5 => k0_hw326.1 k0_h5
theorem k0_off733_inb : ∀ (i : grid0.Coords) (v13 : BitVec 32) (v1199 : BitVec 32) (k0_hw326 : k0_chk326 i v13 v1199), ∀ (k0_h5 : k0_cond5 i v13 = 1#1), ∀ a, (k0_off733 v1199) a + S8x128.size a ≤ S65536x128.size a := fun i v13 v1199 k0_hw326 k0_h5 => k0_hw326.2.1 k0_h5
theorem k0_off734_inb : ∀ (i : grid0.Coords) (v13 : BitVec 32) (v1199 : BitVec 32) (k0_hw326 : k0_chk326 i v13 v1199), ∀ (k0_h5 : k0_cond5 i v13 = 1#1), ∀ a, (k0_off734 v1199) a + S1x128.size a ≤ S8192x128.size a := fun i v13 v1199 k0_hw326 k0_h5 => k0_hw326.2.2 k0_h5

def k0_off735 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c67_i32 : BitVec 32 := 67#32
  let v1214 : BitVec 32 := Scalar.addi v74 c67_i32
  let v1215 : Index := Scalar.indexCast v1214
  ![v1215.toNat]
def k0_mult324 (v1216 : BitVec 32) : BitVec 32 :=
  let c3_i32_509 : BitVec 32 := 3#32
  let v1217 : BitVec 32 := Scalar.shrsi v1216 c3_i32_509
  let c8191_i32_510 : BitVec 32 := 8191#32
  let v1218 : BitVec 32 := Scalar.andi v1217 c8191_i32_510
  let c8_i32_511 : BitVec 32 := 8#32
  let v1219 : BitVec 32 := Scalar.muli v1218 c8_i32_511
  v1219

def k0_off736 (v1216 : BitVec 32) : Fin 2 → Nat :=
  let c3_i32_509 : BitVec 32 := 3#32
  let v1217 : BitVec 32 := Scalar.shrsi v1216 c3_i32_509
  let c8191_i32_510 : BitVec 32 := 8191#32
  let v1218 : BitVec 32 := Scalar.andi v1217 c8191_i32_510
  let c8_i32_511 : BitVec 32 := 8#32
  let v1219 : BitVec 32 := Scalar.muli v1218 c8_i32_511
  let v1220 : BitVec 32 := v1219
  let v1221 : Index := Scalar.indexCast v1220
  let c0_512 : Index := 0#32
  ![v1221.toNat, 0]
def k0_off737 (v1216 : BitVec 32) : Fin 2 → Nat :=
  let c3_i32_509 : BitVec 32 := 3#32
  let v1217 : BitVec 32 := Scalar.shrsi v1216 c3_i32_509
  let c8191_i32_510 : BitVec 32 := 8191#32
  let v1218 : BitVec 32 := Scalar.andi v1217 c8191_i32_510
  let v1226 : Index := Scalar.indexCast v1218
  let c0_514 : Index := 0#32
  ![v1226.toNat, 0]

def k0_chk327 (i : grid0.Coords) (v13 : BitVec 32) (v1216 : BitVec 32) : Prop :=
  (∀ (k0_h5 : k0_cond5 i v13 = 1#1), 8 ∣ (k0_mult324 v1216).toNat) ∧
  (∀ (k0_h5 : k0_cond5 i v13 = 1#1), ∀ a, (k0_off736 v1216) a + S8x128.size a ≤ S65536x128.size a) ∧
  (∀ (k0_h5 : k0_cond5 i v13 = 1#1), ∀ a, (k0_off737 v1216) a + S1x128.size a ≤ S8192x128.size a)
theorem k0_mult324_dvd : ∀ (i : grid0.Coords) (v13 : BitVec 32) (v1216 : BitVec 32) (k0_hw327 : k0_chk327 i v13 v1216), ∀ (k0_h5 : k0_cond5 i v13 = 1#1), 8 ∣ (k0_mult324 v1216).toNat := fun i v13 v1216 k0_hw327 k0_h5 => k0_hw327.1 k0_h5
theorem k0_off736_inb : ∀ (i : grid0.Coords) (v13 : BitVec 32) (v1216 : BitVec 32) (k0_hw327 : k0_chk327 i v13 v1216), ∀ (k0_h5 : k0_cond5 i v13 = 1#1), ∀ a, (k0_off736 v1216) a + S8x128.size a ≤ S65536x128.size a := fun i v13 v1216 k0_hw327 k0_h5 => k0_hw327.2.1 k0_h5
theorem k0_off737_inb : ∀ (i : grid0.Coords) (v13 : BitVec 32) (v1216 : BitVec 32) (k0_hw327 : k0_chk327 i v13 v1216), ∀ (k0_h5 : k0_cond5 i v13 = 1#1), ∀ a, (k0_off737 v1216) a + S1x128.size a ≤ S8192x128.size a := fun i v13 v1216 k0_hw327 k0_h5 => k0_hw327.2.2 k0_h5

def k0_off738 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c68_i32 : BitVec 32 := 68#32
  let v1231 : BitVec 32 := Scalar.addi v74 c68_i32
  let v1232 : Index := Scalar.indexCast v1231
  ![v1232.toNat]
def k0_mult325 (v1233 : BitVec 32) : BitVec 32 :=
  let c3_i32_516 : BitVec 32 := 3#32
  let v1234 : BitVec 32 := Scalar.shrsi v1233 c3_i32_516
  let c8191_i32_517 : BitVec 32 := 8191#32
  let v1235 : BitVec 32 := Scalar.andi v1234 c8191_i32_517
  let c8_i32_518 : BitVec 32 := 8#32
  let v1236 : BitVec 32 := Scalar.muli v1235 c8_i32_518
  v1236

def k0_off739 (v1233 : BitVec 32) : Fin 2 → Nat :=
  let c3_i32_516 : BitVec 32 := 3#32
  let v1234 : BitVec 32 := Scalar.shrsi v1233 c3_i32_516
  let c8191_i32_517 : BitVec 32 := 8191#32
  let v1235 : BitVec 32 := Scalar.andi v1234 c8191_i32_517
  let c8_i32_518 : BitVec 32 := 8#32
  let v1236 : BitVec 32 := Scalar.muli v1235 c8_i32_518
  let v1237 : BitVec 32 := v1236
  let v1238 : Index := Scalar.indexCast v1237
  let c0_519 : Index := 0#32
  ![v1238.toNat, 0]
def k0_off740 (v1233 : BitVec 32) : Fin 2 → Nat :=
  let c3_i32_516 : BitVec 32 := 3#32
  let v1234 : BitVec 32 := Scalar.shrsi v1233 c3_i32_516
  let c8191_i32_517 : BitVec 32 := 8191#32
  let v1235 : BitVec 32 := Scalar.andi v1234 c8191_i32_517
  let v1243 : Index := Scalar.indexCast v1235
  let c0_521 : Index := 0#32
  ![v1243.toNat, 0]

def k0_chk328 (i : grid0.Coords) (v13 : BitVec 32) (v1233 : BitVec 32) : Prop :=
  (∀ (k0_h5 : k0_cond5 i v13 = 1#1), 8 ∣ (k0_mult325 v1233).toNat) ∧
  (∀ (k0_h5 : k0_cond5 i v13 = 1#1), ∀ a, (k0_off739 v1233) a + S8x128.size a ≤ S65536x128.size a) ∧
  (∀ (k0_h5 : k0_cond5 i v13 = 1#1), ∀ a, (k0_off740 v1233) a + S1x128.size a ≤ S8192x128.size a)
theorem k0_mult325_dvd : ∀ (i : grid0.Coords) (v13 : BitVec 32) (v1233 : BitVec 32) (k0_hw328 : k0_chk328 i v13 v1233), ∀ (k0_h5 : k0_cond5 i v13 = 1#1), 8 ∣ (k0_mult325 v1233).toNat := fun i v13 v1233 k0_hw328 k0_h5 => k0_hw328.1 k0_h5
theorem k0_off739_inb : ∀ (i : grid0.Coords) (v13 : BitVec 32) (v1233 : BitVec 32) (k0_hw328 : k0_chk328 i v13 v1233), ∀ (k0_h5 : k0_cond5 i v13 = 1#1), ∀ a, (k0_off739 v1233) a + S8x128.size a ≤ S65536x128.size a := fun i v13 v1233 k0_hw328 k0_h5 => k0_hw328.2.1 k0_h5
theorem k0_off740_inb : ∀ (i : grid0.Coords) (v13 : BitVec 32) (v1233 : BitVec 32) (k0_hw328 : k0_chk328 i v13 v1233), ∀ (k0_h5 : k0_cond5 i v13 = 1#1), ∀ a, (k0_off740 v1233) a + S1x128.size a ≤ S8192x128.size a := fun i v13 v1233 k0_hw328 k0_h5 => k0_hw328.2.2 k0_h5

def k0_off741 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c69_i32 : BitVec 32 := 69#32
  let v1248 : BitVec 32 := Scalar.addi v74 c69_i32
  let v1249 : Index := Scalar.indexCast v1248
  ![v1249.toNat]
def k0_mult326 (v1250 : BitVec 32) : BitVec 32 :=
  let c3_i32_523 : BitVec 32 := 3#32
  let v1251 : BitVec 32 := Scalar.shrsi v1250 c3_i32_523
  let c8191_i32_524 : BitVec 32 := 8191#32
  let v1252 : BitVec 32 := Scalar.andi v1251 c8191_i32_524
  let c8_i32_525 : BitVec 32 := 8#32
  let v1253 : BitVec 32 := Scalar.muli v1252 c8_i32_525
  v1253

def k0_off742 (v1250 : BitVec 32) : Fin 2 → Nat :=
  let c3_i32_523 : BitVec 32 := 3#32
  let v1251 : BitVec 32 := Scalar.shrsi v1250 c3_i32_523
  let c8191_i32_524 : BitVec 32 := 8191#32
  let v1252 : BitVec 32 := Scalar.andi v1251 c8191_i32_524
  let c8_i32_525 : BitVec 32 := 8#32
  let v1253 : BitVec 32 := Scalar.muli v1252 c8_i32_525
  let v1254 : BitVec 32 := v1253
  let v1255 : Index := Scalar.indexCast v1254
  let c0_526 : Index := 0#32
  ![v1255.toNat, 0]
def k0_off743 (v1250 : BitVec 32) : Fin 2 → Nat :=
  let c3_i32_523 : BitVec 32 := 3#32
  let v1251 : BitVec 32 := Scalar.shrsi v1250 c3_i32_523
  let c8191_i32_524 : BitVec 32 := 8191#32
  let v1252 : BitVec 32 := Scalar.andi v1251 c8191_i32_524
  let v1260 : Index := Scalar.indexCast v1252
  let c0_528 : Index := 0#32
  ![v1260.toNat, 0]

def k0_chk329 (i : grid0.Coords) (v13 : BitVec 32) (v1250 : BitVec 32) : Prop :=
  (∀ (k0_h5 : k0_cond5 i v13 = 1#1), 8 ∣ (k0_mult326 v1250).toNat) ∧
  (∀ (k0_h5 : k0_cond5 i v13 = 1#1), ∀ a, (k0_off742 v1250) a + S8x128.size a ≤ S65536x128.size a) ∧
  (∀ (k0_h5 : k0_cond5 i v13 = 1#1), ∀ a, (k0_off743 v1250) a + S1x128.size a ≤ S8192x128.size a)
theorem k0_mult326_dvd : ∀ (i : grid0.Coords) (v13 : BitVec 32) (v1250 : BitVec 32) (k0_hw329 : k0_chk329 i v13 v1250), ∀ (k0_h5 : k0_cond5 i v13 = 1#1), 8 ∣ (k0_mult326 v1250).toNat := fun i v13 v1250 k0_hw329 k0_h5 => k0_hw329.1 k0_h5
theorem k0_off742_inb : ∀ (i : grid0.Coords) (v13 : BitVec 32) (v1250 : BitVec 32) (k0_hw329 : k0_chk329 i v13 v1250), ∀ (k0_h5 : k0_cond5 i v13 = 1#1), ∀ a, (k0_off742 v1250) a + S8x128.size a ≤ S65536x128.size a := fun i v13 v1250 k0_hw329 k0_h5 => k0_hw329.2.1 k0_h5
theorem k0_off743_inb : ∀ (i : grid0.Coords) (v13 : BitVec 32) (v1250 : BitVec 32) (k0_hw329 : k0_chk329 i v13 v1250), ∀ (k0_h5 : k0_cond5 i v13 = 1#1), ∀ a, (k0_off743 v1250) a + S1x128.size a ≤ S8192x128.size a := fun i v13 v1250 k0_hw329 k0_h5 => k0_hw329.2.2 k0_h5

def k0_off744 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c70_i32 : BitVec 32 := 70#32
  let v1265 : BitVec 32 := Scalar.addi v74 c70_i32
  let v1266 : Index := Scalar.indexCast v1265
  ![v1266.toNat]
def k0_mult327 (v1267 : BitVec 32) : BitVec 32 :=
  let c3_i32_530 : BitVec 32 := 3#32
  let v1268 : BitVec 32 := Scalar.shrsi v1267 c3_i32_530
  let c8191_i32_531 : BitVec 32 := 8191#32
  let v1269 : BitVec 32 := Scalar.andi v1268 c8191_i32_531
  let c8_i32_532 : BitVec 32 := 8#32
  let v1270 : BitVec 32 := Scalar.muli v1269 c8_i32_532
  v1270

def k0_off745 (v1267 : BitVec 32) : Fin 2 → Nat :=
  let c3_i32_530 : BitVec 32 := 3#32
  let v1268 : BitVec 32 := Scalar.shrsi v1267 c3_i32_530
  let c8191_i32_531 : BitVec 32 := 8191#32
  let v1269 : BitVec 32 := Scalar.andi v1268 c8191_i32_531
  let c8_i32_532 : BitVec 32 := 8#32
  let v1270 : BitVec 32 := Scalar.muli v1269 c8_i32_532
  let v1271 : BitVec 32 := v1270
  let v1272 : Index := Scalar.indexCast v1271
  let c0_533 : Index := 0#32
  ![v1272.toNat, 0]
def k0_off746 (v1267 : BitVec 32) : Fin 2 → Nat :=
  let c3_i32_530 : BitVec 32 := 3#32
  let v1268 : BitVec 32 := Scalar.shrsi v1267 c3_i32_530
  let c8191_i32_531 : BitVec 32 := 8191#32
  let v1269 : BitVec 32 := Scalar.andi v1268 c8191_i32_531
  let v1277 : Index := Scalar.indexCast v1269
  let c0_535 : Index := 0#32
  ![v1277.toNat, 0]

def k0_chk330 (i : grid0.Coords) (v13 : BitVec 32) (v1267 : BitVec 32) : Prop :=
  (∀ (k0_h5 : k0_cond5 i v13 = 1#1), 8 ∣ (k0_mult327 v1267).toNat) ∧
  (∀ (k0_h5 : k0_cond5 i v13 = 1#1), ∀ a, (k0_off745 v1267) a + S8x128.size a ≤ S65536x128.size a) ∧
  (∀ (k0_h5 : k0_cond5 i v13 = 1#1), ∀ a, (k0_off746 v1267) a + S1x128.size a ≤ S8192x128.size a)
theorem k0_mult327_dvd : ∀ (i : grid0.Coords) (v13 : BitVec 32) (v1267 : BitVec 32) (k0_hw330 : k0_chk330 i v13 v1267), ∀ (k0_h5 : k0_cond5 i v13 = 1#1), 8 ∣ (k0_mult327 v1267).toNat := fun i v13 v1267 k0_hw330 k0_h5 => k0_hw330.1 k0_h5
theorem k0_off745_inb : ∀ (i : grid0.Coords) (v13 : BitVec 32) (v1267 : BitVec 32) (k0_hw330 : k0_chk330 i v13 v1267), ∀ (k0_h5 : k0_cond5 i v13 = 1#1), ∀ a, (k0_off745 v1267) a + S8x128.size a ≤ S65536x128.size a := fun i v13 v1267 k0_hw330 k0_h5 => k0_hw330.2.1 k0_h5
theorem k0_off746_inb : ∀ (i : grid0.Coords) (v13 : BitVec 32) (v1267 : BitVec 32) (k0_hw330 : k0_chk330 i v13 v1267), ∀ (k0_h5 : k0_cond5 i v13 = 1#1), ∀ a, (k0_off746 v1267) a + S1x128.size a ≤ S8192x128.size a := fun i v13 v1267 k0_hw330 k0_h5 => k0_hw330.2.2 k0_h5

def k0_off747 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c71_i32 : BitVec 32 := 71#32
  let v1282 : BitVec 32 := Scalar.addi v74 c71_i32
  let v1283 : Index := Scalar.indexCast v1282
  ![v1283.toNat]
def k0_mult328 (v1284 : BitVec 32) : BitVec 32 :=
  let c3_i32_537 : BitVec 32 := 3#32
  let v1285 : BitVec 32 := Scalar.shrsi v1284 c3_i32_537
  let c8191_i32_538 : BitVec 32 := 8191#32
  let v1286 : BitVec 32 := Scalar.andi v1285 c8191_i32_538
  let c8_i32_539 : BitVec 32 := 8#32
  let v1287 : BitVec 32 := Scalar.muli v1286 c8_i32_539
  v1287

def k0_off748 (v1284 : BitVec 32) : Fin 2 → Nat :=
  let c3_i32_537 : BitVec 32 := 3#32
  let v1285 : BitVec 32 := Scalar.shrsi v1284 c3_i32_537
  let c8191_i32_538 : BitVec 32 := 8191#32
  let v1286 : BitVec 32 := Scalar.andi v1285 c8191_i32_538
  let c8_i32_539 : BitVec 32 := 8#32
  let v1287 : BitVec 32 := Scalar.muli v1286 c8_i32_539
  let v1288 : BitVec 32 := v1287
  let v1289 : Index := Scalar.indexCast v1288
  let c0_540 : Index := 0#32
  ![v1289.toNat, 0]
def k0_off749 (v1284 : BitVec 32) : Fin 2 → Nat :=
  let c3_i32_537 : BitVec 32 := 3#32
  let v1285 : BitVec 32 := Scalar.shrsi v1284 c3_i32_537
  let c8191_i32_538 : BitVec 32 := 8191#32
  let v1286 : BitVec 32 := Scalar.andi v1285 c8191_i32_538
  let v1294 : Index := Scalar.indexCast v1286
  let c0_542 : Index := 0#32
  ![v1294.toNat, 0]

def k0_chk331 (i : grid0.Coords) (v13 : BitVec 32) (v1284 : BitVec 32) : Prop :=
  (∀ (k0_h5 : k0_cond5 i v13 = 1#1), 8 ∣ (k0_mult328 v1284).toNat) ∧
  (∀ (k0_h5 : k0_cond5 i v13 = 1#1), ∀ a, (k0_off748 v1284) a + S8x128.size a ≤ S65536x128.size a) ∧
  (∀ (k0_h5 : k0_cond5 i v13 = 1#1), ∀ a, (k0_off749 v1284) a + S1x128.size a ≤ S8192x128.size a)
theorem k0_mult328_dvd : ∀ (i : grid0.Coords) (v13 : BitVec 32) (v1284 : BitVec 32) (k0_hw331 : k0_chk331 i v13 v1284), ∀ (k0_h5 : k0_cond5 i v13 = 1#1), 8 ∣ (k0_mult328 v1284).toNat := fun i v13 v1284 k0_hw331 k0_h5 => k0_hw331.1 k0_h5
theorem k0_off748_inb : ∀ (i : grid0.Coords) (v13 : BitVec 32) (v1284 : BitVec 32) (k0_hw331 : k0_chk331 i v13 v1284), ∀ (k0_h5 : k0_cond5 i v13 = 1#1), ∀ a, (k0_off748 v1284) a + S8x128.size a ≤ S65536x128.size a := fun i v13 v1284 k0_hw331 k0_h5 => k0_hw331.2.1 k0_h5
theorem k0_off749_inb : ∀ (i : grid0.Coords) (v13 : BitVec 32) (v1284 : BitVec 32) (k0_hw331 : k0_chk331 i v13 v1284), ∀ (k0_h5 : k0_cond5 i v13 = 1#1), ∀ a, (k0_off749 v1284) a + S1x128.size a ≤ S8192x128.size a := fun i v13 v1284 k0_hw331 k0_h5 => k0_hw331.2.2 k0_h5

def k0_off750 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c72_i32 : BitVec 32 := 72#32
  let v1299 : BitVec 32 := Scalar.addi v74 c72_i32
  let v1300 : Index := Scalar.indexCast v1299
  ![v1300.toNat]
def k0_mult329 (v1301 : BitVec 32) : BitVec 32 :=
  let c3_i32_544 : BitVec 32 := 3#32
  let v1302 : BitVec 32 := Scalar.shrsi v1301 c3_i32_544
  let c8191_i32_545 : BitVec 32 := 8191#32
  let v1303 : BitVec 32 := Scalar.andi v1302 c8191_i32_545
  let c8_i32_546 : BitVec 32 := 8#32
  let v1304 : BitVec 32 := Scalar.muli v1303 c8_i32_546
  v1304

def k0_off751 (v1301 : BitVec 32) : Fin 2 → Nat :=
  let c3_i32_544 : BitVec 32 := 3#32
  let v1302 : BitVec 32 := Scalar.shrsi v1301 c3_i32_544
  let c8191_i32_545 : BitVec 32 := 8191#32
  let v1303 : BitVec 32 := Scalar.andi v1302 c8191_i32_545
  let c8_i32_546 : BitVec 32 := 8#32
  let v1304 : BitVec 32 := Scalar.muli v1303 c8_i32_546
  let v1305 : BitVec 32 := v1304
  let v1306 : Index := Scalar.indexCast v1305
  let c0_547 : Index := 0#32
  ![v1306.toNat, 0]
def k0_off752 (v1301 : BitVec 32) : Fin 2 → Nat :=
  let c3_i32_544 : BitVec 32 := 3#32
  let v1302 : BitVec 32 := Scalar.shrsi v1301 c3_i32_544
  let c8191_i32_545 : BitVec 32 := 8191#32
  let v1303 : BitVec 32 := Scalar.andi v1302 c8191_i32_545
  let v1311 : Index := Scalar.indexCast v1303
  let c0_549 : Index := 0#32
  ![v1311.toNat, 0]

def k0_chk332 (i : grid0.Coords) (v13 : BitVec 32) (v1301 : BitVec 32) : Prop :=
  (∀ (k0_h5 : k0_cond5 i v13 = 1#1), 8 ∣ (k0_mult329 v1301).toNat) ∧
  (∀ (k0_h5 : k0_cond5 i v13 = 1#1), ∀ a, (k0_off751 v1301) a + S8x128.size a ≤ S65536x128.size a) ∧
  (∀ (k0_h5 : k0_cond5 i v13 = 1#1), ∀ a, (k0_off752 v1301) a + S1x128.size a ≤ S8192x128.size a)
theorem k0_mult329_dvd : ∀ (i : grid0.Coords) (v13 : BitVec 32) (v1301 : BitVec 32) (k0_hw332 : k0_chk332 i v13 v1301), ∀ (k0_h5 : k0_cond5 i v13 = 1#1), 8 ∣ (k0_mult329 v1301).toNat := fun i v13 v1301 k0_hw332 k0_h5 => k0_hw332.1 k0_h5
theorem k0_off751_inb : ∀ (i : grid0.Coords) (v13 : BitVec 32) (v1301 : BitVec 32) (k0_hw332 : k0_chk332 i v13 v1301), ∀ (k0_h5 : k0_cond5 i v13 = 1#1), ∀ a, (k0_off751 v1301) a + S8x128.size a ≤ S65536x128.size a := fun i v13 v1301 k0_hw332 k0_h5 => k0_hw332.2.1 k0_h5
theorem k0_off752_inb : ∀ (i : grid0.Coords) (v13 : BitVec 32) (v1301 : BitVec 32) (k0_hw332 : k0_chk332 i v13 v1301), ∀ (k0_h5 : k0_cond5 i v13 = 1#1), ∀ a, (k0_off752 v1301) a + S1x128.size a ≤ S8192x128.size a := fun i v13 v1301 k0_hw332 k0_h5 => k0_hw332.2.2 k0_h5

def k0_off753 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c73_i32 : BitVec 32 := 73#32
  let v1316 : BitVec 32 := Scalar.addi v74 c73_i32
  let v1317 : Index := Scalar.indexCast v1316
  ![v1317.toNat]
def k0_mult330 (v1318 : BitVec 32) : BitVec 32 :=
  let c3_i32_552 : BitVec 32 := 3#32
  let v1319 : BitVec 32 := Scalar.shrsi v1318 c3_i32_552
  let c8191_i32_553 : BitVec 32 := 8191#32
  let v1320 : BitVec 32 := Scalar.andi v1319 c8191_i32_553
  let c8_i32_554 : BitVec 32 := 8#32
  let v1321 : BitVec 32 := Scalar.muli v1320 c8_i32_554
  v1321

def k0_off754 (v1318 : BitVec 32) : Fin 2 → Nat :=
  let c3_i32_552 : BitVec 32 := 3#32
  let v1319 : BitVec 32 := Scalar.shrsi v1318 c3_i32_552
  let c8191_i32_553 : BitVec 32 := 8191#32
  let v1320 : BitVec 32 := Scalar.andi v1319 c8191_i32_553
  let c8_i32_554 : BitVec 32 := 8#32
  let v1321 : BitVec 32 := Scalar.muli v1320 c8_i32_554
  let v1322 : BitVec 32 := v1321
  let v1323 : Index := Scalar.indexCast v1322
  let c0_555 : Index := 0#32
  ![v1323.toNat, 0]
def k0_off755 (v1318 : BitVec 32) : Fin 2 → Nat :=
  let c3_i32_552 : BitVec 32 := 3#32
  let v1319 : BitVec 32 := Scalar.shrsi v1318 c3_i32_552
  let c8191_i32_553 : BitVec 32 := 8191#32
  let v1320 : BitVec 32 := Scalar.andi v1319 c8191_i32_553
  let v1328 : Index := Scalar.indexCast v1320
  let c0_557 : Index := 0#32
  ![v1328.toNat, 0]

def k0_chk333 (i : grid0.Coords) (v13 : BitVec 32) (v1318 : BitVec 32) : Prop :=
  (∀ (k0_h5 : k0_cond5 i v13 = 1#1), 8 ∣ (k0_mult330 v1318).toNat) ∧
  (∀ (k0_h5 : k0_cond5 i v13 = 1#1), ∀ a, (k0_off754 v1318) a + S8x128.size a ≤ S65536x128.size a) ∧
  (∀ (k0_h5 : k0_cond5 i v13 = 1#1), ∀ a, (k0_off755 v1318) a + S1x128.size a ≤ S8192x128.size a)
theorem k0_mult330_dvd : ∀ (i : grid0.Coords) (v13 : BitVec 32) (v1318 : BitVec 32) (k0_hw333 : k0_chk333 i v13 v1318), ∀ (k0_h5 : k0_cond5 i v13 = 1#1), 8 ∣ (k0_mult330 v1318).toNat := fun i v13 v1318 k0_hw333 k0_h5 => k0_hw333.1 k0_h5
theorem k0_off754_inb : ∀ (i : grid0.Coords) (v13 : BitVec 32) (v1318 : BitVec 32) (k0_hw333 : k0_chk333 i v13 v1318), ∀ (k0_h5 : k0_cond5 i v13 = 1#1), ∀ a, (k0_off754 v1318) a + S8x128.size a ≤ S65536x128.size a := fun i v13 v1318 k0_hw333 k0_h5 => k0_hw333.2.1 k0_h5
theorem k0_off755_inb : ∀ (i : grid0.Coords) (v13 : BitVec 32) (v1318 : BitVec 32) (k0_hw333 : k0_chk333 i v13 v1318), ∀ (k0_h5 : k0_cond5 i v13 = 1#1), ∀ a, (k0_off755 v1318) a + S1x128.size a ≤ S8192x128.size a := fun i v13 v1318 k0_hw333 k0_h5 => k0_hw333.2.2 k0_h5

def k0_off756 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c74_i32 : BitVec 32 := 74#32
  let v1333 : BitVec 32 := Scalar.addi v74 c74_i32
  let v1334 : Index := Scalar.indexCast v1333
  ![v1334.toNat]
def k0_mult331 (v1335 : BitVec 32) : BitVec 32 :=
  let c3_i32_559 : BitVec 32 := 3#32
  let v1336 : BitVec 32 := Scalar.shrsi v1335 c3_i32_559
  let c8191_i32_560 : BitVec 32 := 8191#32
  let v1337 : BitVec 32 := Scalar.andi v1336 c8191_i32_560
  let c8_i32_561 : BitVec 32 := 8#32
  let v1338 : BitVec 32 := Scalar.muli v1337 c8_i32_561
  v1338

def k0_off757 (v1335 : BitVec 32) : Fin 2 → Nat :=
  let c3_i32_559 : BitVec 32 := 3#32
  let v1336 : BitVec 32 := Scalar.shrsi v1335 c3_i32_559
  let c8191_i32_560 : BitVec 32 := 8191#32
  let v1337 : BitVec 32 := Scalar.andi v1336 c8191_i32_560
  let c8_i32_561 : BitVec 32 := 8#32
  let v1338 : BitVec 32 := Scalar.muli v1337 c8_i32_561
  let v1339 : BitVec 32 := v1338
  let v1340 : Index := Scalar.indexCast v1339
  let c0_562 : Index := 0#32
  ![v1340.toNat, 0]
def k0_off758 (v1335 : BitVec 32) : Fin 2 → Nat :=
  let c3_i32_559 : BitVec 32 := 3#32
  let v1336 : BitVec 32 := Scalar.shrsi v1335 c3_i32_559
  let c8191_i32_560 : BitVec 32 := 8191#32
  let v1337 : BitVec 32 := Scalar.andi v1336 c8191_i32_560
  let v1345 : Index := Scalar.indexCast v1337
  let c0_564 : Index := 0#32
  ![v1345.toNat, 0]

def k0_chk334 (i : grid0.Coords) (v13 : BitVec 32) (v1335 : BitVec 32) : Prop :=
  (∀ (k0_h5 : k0_cond5 i v13 = 1#1), 8 ∣ (k0_mult331 v1335).toNat) ∧
  (∀ (k0_h5 : k0_cond5 i v13 = 1#1), ∀ a, (k0_off757 v1335) a + S8x128.size a ≤ S65536x128.size a) ∧
  (∀ (k0_h5 : k0_cond5 i v13 = 1#1), ∀ a, (k0_off758 v1335) a + S1x128.size a ≤ S8192x128.size a)
theorem k0_mult331_dvd : ∀ (i : grid0.Coords) (v13 : BitVec 32) (v1335 : BitVec 32) (k0_hw334 : k0_chk334 i v13 v1335), ∀ (k0_h5 : k0_cond5 i v13 = 1#1), 8 ∣ (k0_mult331 v1335).toNat := fun i v13 v1335 k0_hw334 k0_h5 => k0_hw334.1 k0_h5
theorem k0_off757_inb : ∀ (i : grid0.Coords) (v13 : BitVec 32) (v1335 : BitVec 32) (k0_hw334 : k0_chk334 i v13 v1335), ∀ (k0_h5 : k0_cond5 i v13 = 1#1), ∀ a, (k0_off757 v1335) a + S8x128.size a ≤ S65536x128.size a := fun i v13 v1335 k0_hw334 k0_h5 => k0_hw334.2.1 k0_h5
theorem k0_off758_inb : ∀ (i : grid0.Coords) (v13 : BitVec 32) (v1335 : BitVec 32) (k0_hw334 : k0_chk334 i v13 v1335), ∀ (k0_h5 : k0_cond5 i v13 = 1#1), ∀ a, (k0_off758 v1335) a + S1x128.size a ≤ S8192x128.size a := fun i v13 v1335 k0_hw334 k0_h5 => k0_hw334.2.2 k0_h5

def k0_off759 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c75_i32 : BitVec 32 := 75#32
  let v1350 : BitVec 32 := Scalar.addi v74 c75_i32
  let v1351 : Index := Scalar.indexCast v1350
  ![v1351.toNat]
def k0_mult332 (v1352 : BitVec 32) : BitVec 32 :=
  let c3_i32_566 : BitVec 32 := 3#32
  let v1353 : BitVec 32 := Scalar.shrsi v1352 c3_i32_566
  let c8191_i32_567 : BitVec 32 := 8191#32
  let v1354 : BitVec 32 := Scalar.andi v1353 c8191_i32_567
  let c8_i32_568 : BitVec 32 := 8#32
  let v1355 : BitVec 32 := Scalar.muli v1354 c8_i32_568
  v1355

def k0_off760 (v1352 : BitVec 32) : Fin 2 → Nat :=
  let c3_i32_566 : BitVec 32 := 3#32
  let v1353 : BitVec 32 := Scalar.shrsi v1352 c3_i32_566
  let c8191_i32_567 : BitVec 32 := 8191#32
  let v1354 : BitVec 32 := Scalar.andi v1353 c8191_i32_567
  let c8_i32_568 : BitVec 32 := 8#32
  let v1355 : BitVec 32 := Scalar.muli v1354 c8_i32_568
  let v1356 : BitVec 32 := v1355
  let v1357 : Index := Scalar.indexCast v1356
  let c0_569 : Index := 0#32
  ![v1357.toNat, 0]
def k0_off761 (v1352 : BitVec 32) : Fin 2 → Nat :=
  let c3_i32_566 : BitVec 32 := 3#32
  let v1353 : BitVec 32 := Scalar.shrsi v1352 c3_i32_566
  let c8191_i32_567 : BitVec 32 := 8191#32
  let v1354 : BitVec 32 := Scalar.andi v1353 c8191_i32_567
  let v1362 : Index := Scalar.indexCast v1354
  let c0_571 : Index := 0#32
  ![v1362.toNat, 0]

def k0_chk335 (i : grid0.Coords) (v13 : BitVec 32) (v1352 : BitVec 32) : Prop :=
  (∀ (k0_h5 : k0_cond5 i v13 = 1#1), 8 ∣ (k0_mult332 v1352).toNat) ∧
  (∀ (k0_h5 : k0_cond5 i v13 = 1#1), ∀ a, (k0_off760 v1352) a + S8x128.size a ≤ S65536x128.size a) ∧
  (∀ (k0_h5 : k0_cond5 i v13 = 1#1), ∀ a, (k0_off761 v1352) a + S1x128.size a ≤ S8192x128.size a)
theorem k0_mult332_dvd : ∀ (i : grid0.Coords) (v13 : BitVec 32) (v1352 : BitVec 32) (k0_hw335 : k0_chk335 i v13 v1352), ∀ (k0_h5 : k0_cond5 i v13 = 1#1), 8 ∣ (k0_mult332 v1352).toNat := fun i v13 v1352 k0_hw335 k0_h5 => k0_hw335.1 k0_h5
theorem k0_off760_inb : ∀ (i : grid0.Coords) (v13 : BitVec 32) (v1352 : BitVec 32) (k0_hw335 : k0_chk335 i v13 v1352), ∀ (k0_h5 : k0_cond5 i v13 = 1#1), ∀ a, (k0_off760 v1352) a + S8x128.size a ≤ S65536x128.size a := fun i v13 v1352 k0_hw335 k0_h5 => k0_hw335.2.1 k0_h5
theorem k0_off761_inb : ∀ (i : grid0.Coords) (v13 : BitVec 32) (v1352 : BitVec 32) (k0_hw335 : k0_chk335 i v13 v1352), ∀ (k0_h5 : k0_cond5 i v13 = 1#1), ∀ a, (k0_off761 v1352) a + S1x128.size a ≤ S8192x128.size a := fun i v13 v1352 k0_hw335 k0_h5 => k0_hw335.2.2 k0_h5

def k0_off762 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c76_i32 : BitVec 32 := 76#32
  let v1367 : BitVec 32 := Scalar.addi v74 c76_i32
  let v1368 : Index := Scalar.indexCast v1367
  ![v1368.toNat]
def k0_mult333 (v1369 : BitVec 32) : BitVec 32 :=
  let c3_i32_573 : BitVec 32 := 3#32
  let v1370 : BitVec 32 := Scalar.shrsi v1369 c3_i32_573
  let c8191_i32_574 : BitVec 32 := 8191#32
  let v1371 : BitVec 32 := Scalar.andi v1370 c8191_i32_574
  let c8_i32_575 : BitVec 32 := 8#32
  let v1372 : BitVec 32 := Scalar.muli v1371 c8_i32_575
  v1372

def k0_off763 (v1369 : BitVec 32) : Fin 2 → Nat :=
  let c3_i32_573 : BitVec 32 := 3#32
  let v1370 : BitVec 32 := Scalar.shrsi v1369 c3_i32_573
  let c8191_i32_574 : BitVec 32 := 8191#32
  let v1371 : BitVec 32 := Scalar.andi v1370 c8191_i32_574
  let c8_i32_575 : BitVec 32 := 8#32
  let v1372 : BitVec 32 := Scalar.muli v1371 c8_i32_575
  let v1373 : BitVec 32 := v1372
  let v1374 : Index := Scalar.indexCast v1373
  let c0_576 : Index := 0#32
  ![v1374.toNat, 0]
def k0_off764 (v1369 : BitVec 32) : Fin 2 → Nat :=
  let c3_i32_573 : BitVec 32 := 3#32
  let v1370 : BitVec 32 := Scalar.shrsi v1369 c3_i32_573
  let c8191_i32_574 : BitVec 32 := 8191#32
  let v1371 : BitVec 32 := Scalar.andi v1370 c8191_i32_574
  let v1379 : Index := Scalar.indexCast v1371
  let c0_578 : Index := 0#32
  ![v1379.toNat, 0]

def k0_chk336 (i : grid0.Coords) (v13 : BitVec 32) (v1369 : BitVec 32) : Prop :=
  (∀ (k0_h5 : k0_cond5 i v13 = 1#1), 8 ∣ (k0_mult333 v1369).toNat) ∧
  (∀ (k0_h5 : k0_cond5 i v13 = 1#1), ∀ a, (k0_off763 v1369) a + S8x128.size a ≤ S65536x128.size a) ∧
  (∀ (k0_h5 : k0_cond5 i v13 = 1#1), ∀ a, (k0_off764 v1369) a + S1x128.size a ≤ S8192x128.size a)
theorem k0_mult333_dvd : ∀ (i : grid0.Coords) (v13 : BitVec 32) (v1369 : BitVec 32) (k0_hw336 : k0_chk336 i v13 v1369), ∀ (k0_h5 : k0_cond5 i v13 = 1#1), 8 ∣ (k0_mult333 v1369).toNat := fun i v13 v1369 k0_hw336 k0_h5 => k0_hw336.1 k0_h5
theorem k0_off763_inb : ∀ (i : grid0.Coords) (v13 : BitVec 32) (v1369 : BitVec 32) (k0_hw336 : k0_chk336 i v13 v1369), ∀ (k0_h5 : k0_cond5 i v13 = 1#1), ∀ a, (k0_off763 v1369) a + S8x128.size a ≤ S65536x128.size a := fun i v13 v1369 k0_hw336 k0_h5 => k0_hw336.2.1 k0_h5
theorem k0_off764_inb : ∀ (i : grid0.Coords) (v13 : BitVec 32) (v1369 : BitVec 32) (k0_hw336 : k0_chk336 i v13 v1369), ∀ (k0_h5 : k0_cond5 i v13 = 1#1), ∀ a, (k0_off764 v1369) a + S1x128.size a ≤ S8192x128.size a := fun i v13 v1369 k0_hw336 k0_h5 => k0_hw336.2.2 k0_h5

def k0_off765 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c77_i32 : BitVec 32 := 77#32
  let v1384 : BitVec 32 := Scalar.addi v74 c77_i32
  let v1385 : Index := Scalar.indexCast v1384
  ![v1385.toNat]
def k0_mult334 (v1386 : BitVec 32) : BitVec 32 :=
  let c3_i32_580 : BitVec 32 := 3#32
  let v1387 : BitVec 32 := Scalar.shrsi v1386 c3_i32_580
  let c8191_i32_581 : BitVec 32 := 8191#32
  let v1388 : BitVec 32 := Scalar.andi v1387 c8191_i32_581
  let c8_i32_582 : BitVec 32 := 8#32
  let v1389 : BitVec 32 := Scalar.muli v1388 c8_i32_582
  v1389

def k0_off766 (v1386 : BitVec 32) : Fin 2 → Nat :=
  let c3_i32_580 : BitVec 32 := 3#32
  let v1387 : BitVec 32 := Scalar.shrsi v1386 c3_i32_580
  let c8191_i32_581 : BitVec 32 := 8191#32
  let v1388 : BitVec 32 := Scalar.andi v1387 c8191_i32_581
  let c8_i32_582 : BitVec 32 := 8#32
  let v1389 : BitVec 32 := Scalar.muli v1388 c8_i32_582
  let v1390 : BitVec 32 := v1389
  let v1391 : Index := Scalar.indexCast v1390
  let c0_583 : Index := 0#32
  ![v1391.toNat, 0]
def k0_off767 (v1386 : BitVec 32) : Fin 2 → Nat :=
  let c3_i32_580 : BitVec 32 := 3#32
  let v1387 : BitVec 32 := Scalar.shrsi v1386 c3_i32_580
  let c8191_i32_581 : BitVec 32 := 8191#32
  let v1388 : BitVec 32 := Scalar.andi v1387 c8191_i32_581
  let v1396 : Index := Scalar.indexCast v1388
  let c0_585 : Index := 0#32
  ![v1396.toNat, 0]

def k0_chk337 (i : grid0.Coords) (v13 : BitVec 32) (v1386 : BitVec 32) : Prop :=
  (∀ (k0_h5 : k0_cond5 i v13 = 1#1), 8 ∣ (k0_mult334 v1386).toNat) ∧
  (∀ (k0_h5 : k0_cond5 i v13 = 1#1), ∀ a, (k0_off766 v1386) a + S8x128.size a ≤ S65536x128.size a) ∧
  (∀ (k0_h5 : k0_cond5 i v13 = 1#1), ∀ a, (k0_off767 v1386) a + S1x128.size a ≤ S8192x128.size a)
theorem k0_mult334_dvd : ∀ (i : grid0.Coords) (v13 : BitVec 32) (v1386 : BitVec 32) (k0_hw337 : k0_chk337 i v13 v1386), ∀ (k0_h5 : k0_cond5 i v13 = 1#1), 8 ∣ (k0_mult334 v1386).toNat := fun i v13 v1386 k0_hw337 k0_h5 => k0_hw337.1 k0_h5
theorem k0_off766_inb : ∀ (i : grid0.Coords) (v13 : BitVec 32) (v1386 : BitVec 32) (k0_hw337 : k0_chk337 i v13 v1386), ∀ (k0_h5 : k0_cond5 i v13 = 1#1), ∀ a, (k0_off766 v1386) a + S8x128.size a ≤ S65536x128.size a := fun i v13 v1386 k0_hw337 k0_h5 => k0_hw337.2.1 k0_h5
theorem k0_off767_inb : ∀ (i : grid0.Coords) (v13 : BitVec 32) (v1386 : BitVec 32) (k0_hw337 : k0_chk337 i v13 v1386), ∀ (k0_h5 : k0_cond5 i v13 = 1#1), ∀ a, (k0_off767 v1386) a + S1x128.size a ≤ S8192x128.size a := fun i v13 v1386 k0_hw337 k0_h5 => k0_hw337.2.2 k0_h5

def k0_off768 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c78_i32 : BitVec 32 := 78#32
  let v1401 : BitVec 32 := Scalar.addi v74 c78_i32
  let v1402 : Index := Scalar.indexCast v1401
  ![v1402.toNat]
def k0_mult335 (v1403 : BitVec 32) : BitVec 32 :=
  let c3_i32_587 : BitVec 32 := 3#32
  let v1404 : BitVec 32 := Scalar.shrsi v1403 c3_i32_587
  let c8191_i32_588 : BitVec 32 := 8191#32
  let v1405 : BitVec 32 := Scalar.andi v1404 c8191_i32_588
  let c8_i32_589 : BitVec 32 := 8#32
  let v1406 : BitVec 32 := Scalar.muli v1405 c8_i32_589
  v1406

def k0_off769 (v1403 : BitVec 32) : Fin 2 → Nat :=
  let c3_i32_587 : BitVec 32 := 3#32
  let v1404 : BitVec 32 := Scalar.shrsi v1403 c3_i32_587
  let c8191_i32_588 : BitVec 32 := 8191#32
  let v1405 : BitVec 32 := Scalar.andi v1404 c8191_i32_588
  let c8_i32_589 : BitVec 32 := 8#32
  let v1406 : BitVec 32 := Scalar.muli v1405 c8_i32_589
  let v1407 : BitVec 32 := v1406
  let v1408 : Index := Scalar.indexCast v1407
  let c0_590 : Index := 0#32
  ![v1408.toNat, 0]
def k0_off770 (v1403 : BitVec 32) : Fin 2 → Nat :=
  let c3_i32_587 : BitVec 32 := 3#32
  let v1404 : BitVec 32 := Scalar.shrsi v1403 c3_i32_587
  let c8191_i32_588 : BitVec 32 := 8191#32
  let v1405 : BitVec 32 := Scalar.andi v1404 c8191_i32_588
  let v1413 : Index := Scalar.indexCast v1405
  let c0_592 : Index := 0#32
  ![v1413.toNat, 0]

def k0_chk338 (i : grid0.Coords) (v13 : BitVec 32) (v1403 : BitVec 32) : Prop :=
  (∀ (k0_h5 : k0_cond5 i v13 = 1#1), 8 ∣ (k0_mult335 v1403).toNat) ∧
  (∀ (k0_h5 : k0_cond5 i v13 = 1#1), ∀ a, (k0_off769 v1403) a + S8x128.size a ≤ S65536x128.size a) ∧
  (∀ (k0_h5 : k0_cond5 i v13 = 1#1), ∀ a, (k0_off770 v1403) a + S1x128.size a ≤ S8192x128.size a)
theorem k0_mult335_dvd : ∀ (i : grid0.Coords) (v13 : BitVec 32) (v1403 : BitVec 32) (k0_hw338 : k0_chk338 i v13 v1403), ∀ (k0_h5 : k0_cond5 i v13 = 1#1), 8 ∣ (k0_mult335 v1403).toNat := fun i v13 v1403 k0_hw338 k0_h5 => k0_hw338.1 k0_h5
theorem k0_off769_inb : ∀ (i : grid0.Coords) (v13 : BitVec 32) (v1403 : BitVec 32) (k0_hw338 : k0_chk338 i v13 v1403), ∀ (k0_h5 : k0_cond5 i v13 = 1#1), ∀ a, (k0_off769 v1403) a + S8x128.size a ≤ S65536x128.size a := fun i v13 v1403 k0_hw338 k0_h5 => k0_hw338.2.1 k0_h5
theorem k0_off770_inb : ∀ (i : grid0.Coords) (v13 : BitVec 32) (v1403 : BitVec 32) (k0_hw338 : k0_chk338 i v13 v1403), ∀ (k0_h5 : k0_cond5 i v13 = 1#1), ∀ a, (k0_off770 v1403) a + S1x128.size a ≤ S8192x128.size a := fun i v13 v1403 k0_hw338 k0_h5 => k0_hw338.2.2 k0_h5

def k0_off771 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c79_i32 : BitVec 32 := 79#32
  let v1418 : BitVec 32 := Scalar.addi v74 c79_i32
  let v1419 : Index := Scalar.indexCast v1418
  ![v1419.toNat]
def k0_mult336 (v1420 : BitVec 32) : BitVec 32 :=
  let c3_i32_594 : BitVec 32 := 3#32
  let v1421 : BitVec 32 := Scalar.shrsi v1420 c3_i32_594
  let c8191_i32_595 : BitVec 32 := 8191#32
  let v1422 : BitVec 32 := Scalar.andi v1421 c8191_i32_595
  let c8_i32_596 : BitVec 32 := 8#32
  let v1423 : BitVec 32 := Scalar.muli v1422 c8_i32_596
  v1423

def k0_off772 (v1420 : BitVec 32) : Fin 2 → Nat :=
  let c3_i32_594 : BitVec 32 := 3#32
  let v1421 : BitVec 32 := Scalar.shrsi v1420 c3_i32_594
  let c8191_i32_595 : BitVec 32 := 8191#32
  let v1422 : BitVec 32 := Scalar.andi v1421 c8191_i32_595
  let c8_i32_596 : BitVec 32 := 8#32
  let v1423 : BitVec 32 := Scalar.muli v1422 c8_i32_596
  let v1424 : BitVec 32 := v1423
  let v1425 : Index := Scalar.indexCast v1424
  let c0_597 : Index := 0#32
  ![v1425.toNat, 0]
def k0_off773 (v1420 : BitVec 32) : Fin 2 → Nat :=
  let c3_i32_594 : BitVec 32 := 3#32
  let v1421 : BitVec 32 := Scalar.shrsi v1420 c3_i32_594
  let c8191_i32_595 : BitVec 32 := 8191#32
  let v1422 : BitVec 32 := Scalar.andi v1421 c8191_i32_595
  let v1430 : Index := Scalar.indexCast v1422
  let c0_599 : Index := 0#32
  ![v1430.toNat, 0]

def k0_chk339 (i : grid0.Coords) (v13 : BitVec 32) (v1420 : BitVec 32) : Prop :=
  (∀ (k0_h5 : k0_cond5 i v13 = 1#1), 8 ∣ (k0_mult336 v1420).toNat) ∧
  (∀ (k0_h5 : k0_cond5 i v13 = 1#1), ∀ a, (k0_off772 v1420) a + S8x128.size a ≤ S65536x128.size a) ∧
  (∀ (k0_h5 : k0_cond5 i v13 = 1#1), ∀ a, (k0_off773 v1420) a + S1x128.size a ≤ S8192x128.size a)
theorem k0_mult336_dvd : ∀ (i : grid0.Coords) (v13 : BitVec 32) (v1420 : BitVec 32) (k0_hw339 : k0_chk339 i v13 v1420), ∀ (k0_h5 : k0_cond5 i v13 = 1#1), 8 ∣ (k0_mult336 v1420).toNat := fun i v13 v1420 k0_hw339 k0_h5 => k0_hw339.1 k0_h5
theorem k0_off772_inb : ∀ (i : grid0.Coords) (v13 : BitVec 32) (v1420 : BitVec 32) (k0_hw339 : k0_chk339 i v13 v1420), ∀ (k0_h5 : k0_cond5 i v13 = 1#1), ∀ a, (k0_off772 v1420) a + S8x128.size a ≤ S65536x128.size a := fun i v13 v1420 k0_hw339 k0_h5 => k0_hw339.2.1 k0_h5
theorem k0_off773_inb : ∀ (i : grid0.Coords) (v13 : BitVec 32) (v1420 : BitVec 32) (k0_hw339 : k0_chk339 i v13 v1420), ∀ (k0_h5 : k0_cond5 i v13 = 1#1), ∀ a, (k0_off773 v1420) a + S1x128.size a ≤ S8192x128.size a := fun i v13 v1420 k0_hw339 k0_h5 => k0_hw339.2.2 k0_h5

def k0_off774 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c80_i32 : BitVec 32 := 80#32
  let v1435 : BitVec 32 := Scalar.addi v74 c80_i32
  let v1436 : Index := Scalar.indexCast v1435
  ![v1436.toNat]
def k0_mult337 (v1437 : BitVec 32) : BitVec 32 :=
  let c3_i32_601 : BitVec 32 := 3#32
  let v1438 : BitVec 32 := Scalar.shrsi v1437 c3_i32_601
  let c8191_i32_602 : BitVec 32 := 8191#32
  let v1439 : BitVec 32 := Scalar.andi v1438 c8191_i32_602
  let c8_i32_603 : BitVec 32 := 8#32
  let v1440 : BitVec 32 := Scalar.muli v1439 c8_i32_603
  v1440

def k0_off775 (v1437 : BitVec 32) : Fin 2 → Nat :=
  let c3_i32_601 : BitVec 32 := 3#32
  let v1438 : BitVec 32 := Scalar.shrsi v1437 c3_i32_601
  let c8191_i32_602 : BitVec 32 := 8191#32
  let v1439 : BitVec 32 := Scalar.andi v1438 c8191_i32_602
  let c8_i32_603 : BitVec 32 := 8#32
  let v1440 : BitVec 32 := Scalar.muli v1439 c8_i32_603
  let v1441 : BitVec 32 := v1440
  let v1442 : Index := Scalar.indexCast v1441
  let c0_604 : Index := 0#32
  ![v1442.toNat, 0]
def k0_off776 (v1437 : BitVec 32) : Fin 2 → Nat :=
  let c3_i32_601 : BitVec 32 := 3#32
  let v1438 : BitVec 32 := Scalar.shrsi v1437 c3_i32_601
  let c8191_i32_602 : BitVec 32 := 8191#32
  let v1439 : BitVec 32 := Scalar.andi v1438 c8191_i32_602
  let v1447 : Index := Scalar.indexCast v1439
  let c0_606 : Index := 0#32
  ![v1447.toNat, 0]

def k0_chk340 (i : grid0.Coords) (v13 : BitVec 32) (v1437 : BitVec 32) : Prop :=
  (∀ (k0_h5 : k0_cond5 i v13 = 1#1), 8 ∣ (k0_mult337 v1437).toNat) ∧
  (∀ (k0_h5 : k0_cond5 i v13 = 1#1), ∀ a, (k0_off775 v1437) a + S8x128.size a ≤ S65536x128.size a) ∧
  (∀ (k0_h5 : k0_cond5 i v13 = 1#1), ∀ a, (k0_off776 v1437) a + S1x128.size a ≤ S8192x128.size a)
theorem k0_mult337_dvd : ∀ (i : grid0.Coords) (v13 : BitVec 32) (v1437 : BitVec 32) (k0_hw340 : k0_chk340 i v13 v1437), ∀ (k0_h5 : k0_cond5 i v13 = 1#1), 8 ∣ (k0_mult337 v1437).toNat := fun i v13 v1437 k0_hw340 k0_h5 => k0_hw340.1 k0_h5
theorem k0_off775_inb : ∀ (i : grid0.Coords) (v13 : BitVec 32) (v1437 : BitVec 32) (k0_hw340 : k0_chk340 i v13 v1437), ∀ (k0_h5 : k0_cond5 i v13 = 1#1), ∀ a, (k0_off775 v1437) a + S8x128.size a ≤ S65536x128.size a := fun i v13 v1437 k0_hw340 k0_h5 => k0_hw340.2.1 k0_h5
theorem k0_off776_inb : ∀ (i : grid0.Coords) (v13 : BitVec 32) (v1437 : BitVec 32) (k0_hw340 : k0_chk340 i v13 v1437), ∀ (k0_h5 : k0_cond5 i v13 = 1#1), ∀ a, (k0_off776 v1437) a + S1x128.size a ≤ S8192x128.size a := fun i v13 v1437 k0_hw340 k0_h5 => k0_hw340.2.2 k0_h5

def k0_off777 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c81_i32 : BitVec 32 := 81#32
  let v1452 : BitVec 32 := Scalar.addi v74 c81_i32
  let v1453 : Index := Scalar.indexCast v1452
  ![v1453.toNat]
def k0_mult338 (v1454 : BitVec 32) : BitVec 32 :=
  let c3_i32_609 : BitVec 32 := 3#32
  let v1455 : BitVec 32 := Scalar.shrsi v1454 c3_i32_609
  let c8191_i32_610 : BitVec 32 := 8191#32
  let v1456 : BitVec 32 := Scalar.andi v1455 c8191_i32_610
  let c8_i32_611 : BitVec 32 := 8#32
  let v1457 : BitVec 32 := Scalar.muli v1456 c8_i32_611
  v1457

def k0_off778 (v1454 : BitVec 32) : Fin 2 → Nat :=
  let c3_i32_609 : BitVec 32 := 3#32
  let v1455 : BitVec 32 := Scalar.shrsi v1454 c3_i32_609
  let c8191_i32_610 : BitVec 32 := 8191#32
  let v1456 : BitVec 32 := Scalar.andi v1455 c8191_i32_610
  let c8_i32_611 : BitVec 32 := 8#32
  let v1457 : BitVec 32 := Scalar.muli v1456 c8_i32_611
  let v1458 : BitVec 32 := v1457
  let v1459 : Index := Scalar.indexCast v1458
  let c0_612 : Index := 0#32
  ![v1459.toNat, 0]
def k0_off779 (v1454 : BitVec 32) : Fin 2 → Nat :=
  let c3_i32_609 : BitVec 32 := 3#32
  let v1455 : BitVec 32 := Scalar.shrsi v1454 c3_i32_609
  let c8191_i32_610 : BitVec 32 := 8191#32
  let v1456 : BitVec 32 := Scalar.andi v1455 c8191_i32_610
  let v1464 : Index := Scalar.indexCast v1456
  let c0_614 : Index := 0#32
  ![v1464.toNat, 0]

def k0_chk341 (i : grid0.Coords) (v13 : BitVec 32) (v1454 : BitVec 32) : Prop :=
  (∀ (k0_h5 : k0_cond5 i v13 = 1#1), 8 ∣ (k0_mult338 v1454).toNat) ∧
  (∀ (k0_h5 : k0_cond5 i v13 = 1#1), ∀ a, (k0_off778 v1454) a + S8x128.size a ≤ S65536x128.size a) ∧
  (∀ (k0_h5 : k0_cond5 i v13 = 1#1), ∀ a, (k0_off779 v1454) a + S1x128.size a ≤ S8192x128.size a)
theorem k0_mult338_dvd : ∀ (i : grid0.Coords) (v13 : BitVec 32) (v1454 : BitVec 32) (k0_hw341 : k0_chk341 i v13 v1454), ∀ (k0_h5 : k0_cond5 i v13 = 1#1), 8 ∣ (k0_mult338 v1454).toNat := fun i v13 v1454 k0_hw341 k0_h5 => k0_hw341.1 k0_h5
theorem k0_off778_inb : ∀ (i : grid0.Coords) (v13 : BitVec 32) (v1454 : BitVec 32) (k0_hw341 : k0_chk341 i v13 v1454), ∀ (k0_h5 : k0_cond5 i v13 = 1#1), ∀ a, (k0_off778 v1454) a + S8x128.size a ≤ S65536x128.size a := fun i v13 v1454 k0_hw341 k0_h5 => k0_hw341.2.1 k0_h5
theorem k0_off779_inb : ∀ (i : grid0.Coords) (v13 : BitVec 32) (v1454 : BitVec 32) (k0_hw341 : k0_chk341 i v13 v1454), ∀ (k0_h5 : k0_cond5 i v13 = 1#1), ∀ a, (k0_off779 v1454) a + S1x128.size a ≤ S8192x128.size a := fun i v13 v1454 k0_hw341 k0_h5 => k0_hw341.2.2 k0_h5

def k0_off780 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c82_i32 : BitVec 32 := 82#32
  let v1469 : BitVec 32 := Scalar.addi v74 c82_i32
  let v1470 : Index := Scalar.indexCast v1469
  ![v1470.toNat]
def k0_mult339 (v1471 : BitVec 32) : BitVec 32 :=
  let c3_i32_616 : BitVec 32 := 3#32
  let v1472 : BitVec 32 := Scalar.shrsi v1471 c3_i32_616
  let c8191_i32_617 : BitVec 32 := 8191#32
  let v1473 : BitVec 32 := Scalar.andi v1472 c8191_i32_617
  let c8_i32_618 : BitVec 32 := 8#32
  let v1474 : BitVec 32 := Scalar.muli v1473 c8_i32_618
  v1474

def k0_off781 (v1471 : BitVec 32) : Fin 2 → Nat :=
  let c3_i32_616 : BitVec 32 := 3#32
  let v1472 : BitVec 32 := Scalar.shrsi v1471 c3_i32_616
  let c8191_i32_617 : BitVec 32 := 8191#32
  let v1473 : BitVec 32 := Scalar.andi v1472 c8191_i32_617
  let c8_i32_618 : BitVec 32 := 8#32
  let v1474 : BitVec 32 := Scalar.muli v1473 c8_i32_618
  let v1475 : BitVec 32 := v1474
  let v1476 : Index := Scalar.indexCast v1475
  let c0_619 : Index := 0#32
  ![v1476.toNat, 0]
def k0_off782 (v1471 : BitVec 32) : Fin 2 → Nat :=
  let c3_i32_616 : BitVec 32 := 3#32
  let v1472 : BitVec 32 := Scalar.shrsi v1471 c3_i32_616
  let c8191_i32_617 : BitVec 32 := 8191#32
  let v1473 : BitVec 32 := Scalar.andi v1472 c8191_i32_617
  let v1481 : Index := Scalar.indexCast v1473
  let c0_621 : Index := 0#32
  ![v1481.toNat, 0]

def k0_chk342 (i : grid0.Coords) (v13 : BitVec 32) (v1471 : BitVec 32) : Prop :=
  (∀ (k0_h5 : k0_cond5 i v13 = 1#1), 8 ∣ (k0_mult339 v1471).toNat) ∧
  (∀ (k0_h5 : k0_cond5 i v13 = 1#1), ∀ a, (k0_off781 v1471) a + S8x128.size a ≤ S65536x128.size a) ∧
  (∀ (k0_h5 : k0_cond5 i v13 = 1#1), ∀ a, (k0_off782 v1471) a + S1x128.size a ≤ S8192x128.size a)
theorem k0_mult339_dvd : ∀ (i : grid0.Coords) (v13 : BitVec 32) (v1471 : BitVec 32) (k0_hw342 : k0_chk342 i v13 v1471), ∀ (k0_h5 : k0_cond5 i v13 = 1#1), 8 ∣ (k0_mult339 v1471).toNat := fun i v13 v1471 k0_hw342 k0_h5 => k0_hw342.1 k0_h5
theorem k0_off781_inb : ∀ (i : grid0.Coords) (v13 : BitVec 32) (v1471 : BitVec 32) (k0_hw342 : k0_chk342 i v13 v1471), ∀ (k0_h5 : k0_cond5 i v13 = 1#1), ∀ a, (k0_off781 v1471) a + S8x128.size a ≤ S65536x128.size a := fun i v13 v1471 k0_hw342 k0_h5 => k0_hw342.2.1 k0_h5
theorem k0_off782_inb : ∀ (i : grid0.Coords) (v13 : BitVec 32) (v1471 : BitVec 32) (k0_hw342 : k0_chk342 i v13 v1471), ∀ (k0_h5 : k0_cond5 i v13 = 1#1), ∀ a, (k0_off782 v1471) a + S1x128.size a ≤ S8192x128.size a := fun i v13 v1471 k0_hw342 k0_h5 => k0_hw342.2.2 k0_h5

def k0_off783 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c83_i32 : BitVec 32 := 83#32
  let v1486 : BitVec 32 := Scalar.addi v74 c83_i32
  let v1487 : Index := Scalar.indexCast v1486
  ![v1487.toNat]
def k0_mult340 (v1488 : BitVec 32) : BitVec 32 :=
  let c3_i32_623 : BitVec 32 := 3#32
  let v1489 : BitVec 32 := Scalar.shrsi v1488 c3_i32_623
  let c8191_i32_624 : BitVec 32 := 8191#32
  let v1490 : BitVec 32 := Scalar.andi v1489 c8191_i32_624
  let c8_i32_625 : BitVec 32 := 8#32
  let v1491 : BitVec 32 := Scalar.muli v1490 c8_i32_625
  v1491

def k0_off784 (v1488 : BitVec 32) : Fin 2 → Nat :=
  let c3_i32_623 : BitVec 32 := 3#32
  let v1489 : BitVec 32 := Scalar.shrsi v1488 c3_i32_623
  let c8191_i32_624 : BitVec 32 := 8191#32
  let v1490 : BitVec 32 := Scalar.andi v1489 c8191_i32_624
  let c8_i32_625 : BitVec 32 := 8#32
  let v1491 : BitVec 32 := Scalar.muli v1490 c8_i32_625
  let v1492 : BitVec 32 := v1491
  let v1493 : Index := Scalar.indexCast v1492
  let c0_626 : Index := 0#32
  ![v1493.toNat, 0]
def k0_off785 (v1488 : BitVec 32) : Fin 2 → Nat :=
  let c3_i32_623 : BitVec 32 := 3#32
  let v1489 : BitVec 32 := Scalar.shrsi v1488 c3_i32_623
  let c8191_i32_624 : BitVec 32 := 8191#32
  let v1490 : BitVec 32 := Scalar.andi v1489 c8191_i32_624
  let v1498 : Index := Scalar.indexCast v1490
  let c0_628 : Index := 0#32
  ![v1498.toNat, 0]

def k0_chk343 (i : grid0.Coords) (v13 : BitVec 32) (v1488 : BitVec 32) : Prop :=
  (∀ (k0_h5 : k0_cond5 i v13 = 1#1), 8 ∣ (k0_mult340 v1488).toNat) ∧
  (∀ (k0_h5 : k0_cond5 i v13 = 1#1), ∀ a, (k0_off784 v1488) a + S8x128.size a ≤ S65536x128.size a) ∧
  (∀ (k0_h5 : k0_cond5 i v13 = 1#1), ∀ a, (k0_off785 v1488) a + S1x128.size a ≤ S8192x128.size a)
theorem k0_mult340_dvd : ∀ (i : grid0.Coords) (v13 : BitVec 32) (v1488 : BitVec 32) (k0_hw343 : k0_chk343 i v13 v1488), ∀ (k0_h5 : k0_cond5 i v13 = 1#1), 8 ∣ (k0_mult340 v1488).toNat := fun i v13 v1488 k0_hw343 k0_h5 => k0_hw343.1 k0_h5
theorem k0_off784_inb : ∀ (i : grid0.Coords) (v13 : BitVec 32) (v1488 : BitVec 32) (k0_hw343 : k0_chk343 i v13 v1488), ∀ (k0_h5 : k0_cond5 i v13 = 1#1), ∀ a, (k0_off784 v1488) a + S8x128.size a ≤ S65536x128.size a := fun i v13 v1488 k0_hw343 k0_h5 => k0_hw343.2.1 k0_h5
theorem k0_off785_inb : ∀ (i : grid0.Coords) (v13 : BitVec 32) (v1488 : BitVec 32) (k0_hw343 : k0_chk343 i v13 v1488), ∀ (k0_h5 : k0_cond5 i v13 = 1#1), ∀ a, (k0_off785 v1488) a + S1x128.size a ≤ S8192x128.size a := fun i v13 v1488 k0_hw343 k0_h5 => k0_hw343.2.2 k0_h5

def k0_off786 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c84_i32 : BitVec 32 := 84#32
  let v1503 : BitVec 32 := Scalar.addi v74 c84_i32
  let v1504 : Index := Scalar.indexCast v1503
  ![v1504.toNat]
def k0_mult341 (v1505 : BitVec 32) : BitVec 32 :=
  let c3_i32_630 : BitVec 32 := 3#32
  let v1506 : BitVec 32 := Scalar.shrsi v1505 c3_i32_630
  let c8191_i32_631 : BitVec 32 := 8191#32
  let v1507 : BitVec 32 := Scalar.andi v1506 c8191_i32_631
  let c8_i32_632 : BitVec 32 := 8#32
  let v1508 : BitVec 32 := Scalar.muli v1507 c8_i32_632
  v1508

def k0_off787 (v1505 : BitVec 32) : Fin 2 → Nat :=
  let c3_i32_630 : BitVec 32 := 3#32
  let v1506 : BitVec 32 := Scalar.shrsi v1505 c3_i32_630
  let c8191_i32_631 : BitVec 32 := 8191#32
  let v1507 : BitVec 32 := Scalar.andi v1506 c8191_i32_631
  let c8_i32_632 : BitVec 32 := 8#32
  let v1508 : BitVec 32 := Scalar.muli v1507 c8_i32_632
  let v1509 : BitVec 32 := v1508
  let v1510 : Index := Scalar.indexCast v1509
  let c0_633 : Index := 0#32
  ![v1510.toNat, 0]
def k0_off788 (v1505 : BitVec 32) : Fin 2 → Nat :=
  let c3_i32_630 : BitVec 32 := 3#32
  let v1506 : BitVec 32 := Scalar.shrsi v1505 c3_i32_630
  let c8191_i32_631 : BitVec 32 := 8191#32
  let v1507 : BitVec 32 := Scalar.andi v1506 c8191_i32_631
  let v1515 : Index := Scalar.indexCast v1507
  let c0_635 : Index := 0#32
  ![v1515.toNat, 0]

def k0_chk344 (i : grid0.Coords) (v13 : BitVec 32) (v1505 : BitVec 32) : Prop :=
  (∀ (k0_h5 : k0_cond5 i v13 = 1#1), 8 ∣ (k0_mult341 v1505).toNat) ∧
  (∀ (k0_h5 : k0_cond5 i v13 = 1#1), ∀ a, (k0_off787 v1505) a + S8x128.size a ≤ S65536x128.size a) ∧
  (∀ (k0_h5 : k0_cond5 i v13 = 1#1), ∀ a, (k0_off788 v1505) a + S1x128.size a ≤ S8192x128.size a)
theorem k0_mult341_dvd : ∀ (i : grid0.Coords) (v13 : BitVec 32) (v1505 : BitVec 32) (k0_hw344 : k0_chk344 i v13 v1505), ∀ (k0_h5 : k0_cond5 i v13 = 1#1), 8 ∣ (k0_mult341 v1505).toNat := fun i v13 v1505 k0_hw344 k0_h5 => k0_hw344.1 k0_h5
theorem k0_off787_inb : ∀ (i : grid0.Coords) (v13 : BitVec 32) (v1505 : BitVec 32) (k0_hw344 : k0_chk344 i v13 v1505), ∀ (k0_h5 : k0_cond5 i v13 = 1#1), ∀ a, (k0_off787 v1505) a + S8x128.size a ≤ S65536x128.size a := fun i v13 v1505 k0_hw344 k0_h5 => k0_hw344.2.1 k0_h5
theorem k0_off788_inb : ∀ (i : grid0.Coords) (v13 : BitVec 32) (v1505 : BitVec 32) (k0_hw344 : k0_chk344 i v13 v1505), ∀ (k0_h5 : k0_cond5 i v13 = 1#1), ∀ a, (k0_off788 v1505) a + S1x128.size a ≤ S8192x128.size a := fun i v13 v1505 k0_hw344 k0_h5 => k0_hw344.2.2 k0_h5

def k0_off789 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c85_i32 : BitVec 32 := 85#32
  let v1520 : BitVec 32 := Scalar.addi v74 c85_i32
  let v1521 : Index := Scalar.indexCast v1520
  ![v1521.toNat]
def k0_mult342 (v1522 : BitVec 32) : BitVec 32 :=
  let c3_i32_637 : BitVec 32 := 3#32
  let v1523 : BitVec 32 := Scalar.shrsi v1522 c3_i32_637
  let c8191_i32_638 : BitVec 32 := 8191#32
  let v1524 : BitVec 32 := Scalar.andi v1523 c8191_i32_638
  let c8_i32_639 : BitVec 32 := 8#32
  let v1525 : BitVec 32 := Scalar.muli v1524 c8_i32_639
  v1525

def k0_off790 (v1522 : BitVec 32) : Fin 2 → Nat :=
  let c3_i32_637 : BitVec 32 := 3#32
  let v1523 : BitVec 32 := Scalar.shrsi v1522 c3_i32_637
  let c8191_i32_638 : BitVec 32 := 8191#32
  let v1524 : BitVec 32 := Scalar.andi v1523 c8191_i32_638
  let c8_i32_639 : BitVec 32 := 8#32
  let v1525 : BitVec 32 := Scalar.muli v1524 c8_i32_639
  let v1526 : BitVec 32 := v1525
  let v1527 : Index := Scalar.indexCast v1526
  let c0_640 : Index := 0#32
  ![v1527.toNat, 0]
def k0_off791 (v1522 : BitVec 32) : Fin 2 → Nat :=
  let c3_i32_637 : BitVec 32 := 3#32
  let v1523 : BitVec 32 := Scalar.shrsi v1522 c3_i32_637
  let c8191_i32_638 : BitVec 32 := 8191#32
  let v1524 : BitVec 32 := Scalar.andi v1523 c8191_i32_638
  let v1532 : Index := Scalar.indexCast v1524
  let c0_642 : Index := 0#32
  ![v1532.toNat, 0]

def k0_chk345 (i : grid0.Coords) (v13 : BitVec 32) (v1522 : BitVec 32) : Prop :=
  (∀ (k0_h5 : k0_cond5 i v13 = 1#1), 8 ∣ (k0_mult342 v1522).toNat) ∧
  (∀ (k0_h5 : k0_cond5 i v13 = 1#1), ∀ a, (k0_off790 v1522) a + S8x128.size a ≤ S65536x128.size a) ∧
  (∀ (k0_h5 : k0_cond5 i v13 = 1#1), ∀ a, (k0_off791 v1522) a + S1x128.size a ≤ S8192x128.size a)
theorem k0_mult342_dvd : ∀ (i : grid0.Coords) (v13 : BitVec 32) (v1522 : BitVec 32) (k0_hw345 : k0_chk345 i v13 v1522), ∀ (k0_h5 : k0_cond5 i v13 = 1#1), 8 ∣ (k0_mult342 v1522).toNat := fun i v13 v1522 k0_hw345 k0_h5 => k0_hw345.1 k0_h5
theorem k0_off790_inb : ∀ (i : grid0.Coords) (v13 : BitVec 32) (v1522 : BitVec 32) (k0_hw345 : k0_chk345 i v13 v1522), ∀ (k0_h5 : k0_cond5 i v13 = 1#1), ∀ a, (k0_off790 v1522) a + S8x128.size a ≤ S65536x128.size a := fun i v13 v1522 k0_hw345 k0_h5 => k0_hw345.2.1 k0_h5
theorem k0_off791_inb : ∀ (i : grid0.Coords) (v13 : BitVec 32) (v1522 : BitVec 32) (k0_hw345 : k0_chk345 i v13 v1522), ∀ (k0_h5 : k0_cond5 i v13 = 1#1), ∀ a, (k0_off791 v1522) a + S1x128.size a ≤ S8192x128.size a := fun i v13 v1522 k0_hw345 k0_h5 => k0_hw345.2.2 k0_h5

def k0_off792 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c86_i32 : BitVec 32 := 86#32
  let v1537 : BitVec 32 := Scalar.addi v74 c86_i32
  let v1538 : Index := Scalar.indexCast v1537
  ![v1538.toNat]
def k0_mult343 (v1539 : BitVec 32) : BitVec 32 :=
  let c3_i32_644 : BitVec 32 := 3#32
  let v1540 : BitVec 32 := Scalar.shrsi v1539 c3_i32_644
  let c8191_i32_645 : BitVec 32 := 8191#32
  let v1541 : BitVec 32 := Scalar.andi v1540 c8191_i32_645
  let c8_i32_646 : BitVec 32 := 8#32
  let v1542 : BitVec 32 := Scalar.muli v1541 c8_i32_646
  v1542

def k0_off793 (v1539 : BitVec 32) : Fin 2 → Nat :=
  let c3_i32_644 : BitVec 32 := 3#32
  let v1540 : BitVec 32 := Scalar.shrsi v1539 c3_i32_644
  let c8191_i32_645 : BitVec 32 := 8191#32
  let v1541 : BitVec 32 := Scalar.andi v1540 c8191_i32_645
  let c8_i32_646 : BitVec 32 := 8#32
  let v1542 : BitVec 32 := Scalar.muli v1541 c8_i32_646
  let v1543 : BitVec 32 := v1542
  let v1544 : Index := Scalar.indexCast v1543
  let c0_647 : Index := 0#32
  ![v1544.toNat, 0]
def k0_off794 (v1539 : BitVec 32) : Fin 2 → Nat :=
  let c3_i32_644 : BitVec 32 := 3#32
  let v1540 : BitVec 32 := Scalar.shrsi v1539 c3_i32_644
  let c8191_i32_645 : BitVec 32 := 8191#32
  let v1541 : BitVec 32 := Scalar.andi v1540 c8191_i32_645
  let v1549 : Index := Scalar.indexCast v1541
  let c0_649 : Index := 0#32
  ![v1549.toNat, 0]

def k0_chk346 (i : grid0.Coords) (v13 : BitVec 32) (v1539 : BitVec 32) : Prop :=
  (∀ (k0_h5 : k0_cond5 i v13 = 1#1), 8 ∣ (k0_mult343 v1539).toNat) ∧
  (∀ (k0_h5 : k0_cond5 i v13 = 1#1), ∀ a, (k0_off793 v1539) a + S8x128.size a ≤ S65536x128.size a) ∧
  (∀ (k0_h5 : k0_cond5 i v13 = 1#1), ∀ a, (k0_off794 v1539) a + S1x128.size a ≤ S8192x128.size a)
theorem k0_mult343_dvd : ∀ (i : grid0.Coords) (v13 : BitVec 32) (v1539 : BitVec 32) (k0_hw346 : k0_chk346 i v13 v1539), ∀ (k0_h5 : k0_cond5 i v13 = 1#1), 8 ∣ (k0_mult343 v1539).toNat := fun i v13 v1539 k0_hw346 k0_h5 => k0_hw346.1 k0_h5
theorem k0_off793_inb : ∀ (i : grid0.Coords) (v13 : BitVec 32) (v1539 : BitVec 32) (k0_hw346 : k0_chk346 i v13 v1539), ∀ (k0_h5 : k0_cond5 i v13 = 1#1), ∀ a, (k0_off793 v1539) a + S8x128.size a ≤ S65536x128.size a := fun i v13 v1539 k0_hw346 k0_h5 => k0_hw346.2.1 k0_h5
theorem k0_off794_inb : ∀ (i : grid0.Coords) (v13 : BitVec 32) (v1539 : BitVec 32) (k0_hw346 : k0_chk346 i v13 v1539), ∀ (k0_h5 : k0_cond5 i v13 = 1#1), ∀ a, (k0_off794 v1539) a + S1x128.size a ≤ S8192x128.size a := fun i v13 v1539 k0_hw346 k0_h5 => k0_hw346.2.2 k0_h5

def k0_off795 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c87_i32 : BitVec 32 := 87#32
  let v1554 : BitVec 32 := Scalar.addi v74 c87_i32
  let v1555 : Index := Scalar.indexCast v1554
  ![v1555.toNat]
def k0_mult344 (v1556 : BitVec 32) : BitVec 32 :=
  let c3_i32_651 : BitVec 32 := 3#32
  let v1557 : BitVec 32 := Scalar.shrsi v1556 c3_i32_651
  let c8191_i32_652 : BitVec 32 := 8191#32
  let v1558 : BitVec 32 := Scalar.andi v1557 c8191_i32_652
  let c8_i32_653 : BitVec 32 := 8#32
  let v1559 : BitVec 32 := Scalar.muli v1558 c8_i32_653
  v1559

def k0_off796 (v1556 : BitVec 32) : Fin 2 → Nat :=
  let c3_i32_651 : BitVec 32 := 3#32
  let v1557 : BitVec 32 := Scalar.shrsi v1556 c3_i32_651
  let c8191_i32_652 : BitVec 32 := 8191#32
  let v1558 : BitVec 32 := Scalar.andi v1557 c8191_i32_652
  let c8_i32_653 : BitVec 32 := 8#32
  let v1559 : BitVec 32 := Scalar.muli v1558 c8_i32_653
  let v1560 : BitVec 32 := v1559
  let v1561 : Index := Scalar.indexCast v1560
  let c0_654 : Index := 0#32
  ![v1561.toNat, 0]
def k0_off797 (v1556 : BitVec 32) : Fin 2 → Nat :=
  let c3_i32_651 : BitVec 32 := 3#32
  let v1557 : BitVec 32 := Scalar.shrsi v1556 c3_i32_651
  let c8191_i32_652 : BitVec 32 := 8191#32
  let v1558 : BitVec 32 := Scalar.andi v1557 c8191_i32_652
  let v1566 : Index := Scalar.indexCast v1558
  let c0_656 : Index := 0#32
  ![v1566.toNat, 0]

def k0_chk347 (i : grid0.Coords) (v13 : BitVec 32) (v1556 : BitVec 32) : Prop :=
  (∀ (k0_h5 : k0_cond5 i v13 = 1#1), 8 ∣ (k0_mult344 v1556).toNat) ∧
  (∀ (k0_h5 : k0_cond5 i v13 = 1#1), ∀ a, (k0_off796 v1556) a + S8x128.size a ≤ S65536x128.size a) ∧
  (∀ (k0_h5 : k0_cond5 i v13 = 1#1), ∀ a, (k0_off797 v1556) a + S1x128.size a ≤ S8192x128.size a)
theorem k0_mult344_dvd : ∀ (i : grid0.Coords) (v13 : BitVec 32) (v1556 : BitVec 32) (k0_hw347 : k0_chk347 i v13 v1556), ∀ (k0_h5 : k0_cond5 i v13 = 1#1), 8 ∣ (k0_mult344 v1556).toNat := fun i v13 v1556 k0_hw347 k0_h5 => k0_hw347.1 k0_h5
theorem k0_off796_inb : ∀ (i : grid0.Coords) (v13 : BitVec 32) (v1556 : BitVec 32) (k0_hw347 : k0_chk347 i v13 v1556), ∀ (k0_h5 : k0_cond5 i v13 = 1#1), ∀ a, (k0_off796 v1556) a + S8x128.size a ≤ S65536x128.size a := fun i v13 v1556 k0_hw347 k0_h5 => k0_hw347.2.1 k0_h5
theorem k0_off797_inb : ∀ (i : grid0.Coords) (v13 : BitVec 32) (v1556 : BitVec 32) (k0_hw347 : k0_chk347 i v13 v1556), ∀ (k0_h5 : k0_cond5 i v13 = 1#1), ∀ a, (k0_off797 v1556) a + S1x128.size a ≤ S8192x128.size a := fun i v13 v1556 k0_hw347 k0_h5 => k0_hw347.2.2 k0_h5

def k0_off798 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c88_i32 : BitVec 32 := 88#32
  let v1571 : BitVec 32 := Scalar.addi v74 c88_i32
  let v1572 : Index := Scalar.indexCast v1571
  ![v1572.toNat]
def k0_mult345 (v1573 : BitVec 32) : BitVec 32 :=
  let c3_i32_658 : BitVec 32 := 3#32
  let v1574 : BitVec 32 := Scalar.shrsi v1573 c3_i32_658
  let c8191_i32_659 : BitVec 32 := 8191#32
  let v1575 : BitVec 32 := Scalar.andi v1574 c8191_i32_659
  let c8_i32_660 : BitVec 32 := 8#32
  let v1576 : BitVec 32 := Scalar.muli v1575 c8_i32_660
  v1576

def k0_off799 (v1573 : BitVec 32) : Fin 2 → Nat :=
  let c3_i32_658 : BitVec 32 := 3#32
  let v1574 : BitVec 32 := Scalar.shrsi v1573 c3_i32_658
  let c8191_i32_659 : BitVec 32 := 8191#32
  let v1575 : BitVec 32 := Scalar.andi v1574 c8191_i32_659
  let c8_i32_660 : BitVec 32 := 8#32
  let v1576 : BitVec 32 := Scalar.muli v1575 c8_i32_660
  let v1577 : BitVec 32 := v1576
  let v1578 : Index := Scalar.indexCast v1577
  let c0_661 : Index := 0#32
  ![v1578.toNat, 0]
def k0_off800 (v1573 : BitVec 32) : Fin 2 → Nat :=
  let c3_i32_658 : BitVec 32 := 3#32
  let v1574 : BitVec 32 := Scalar.shrsi v1573 c3_i32_658
  let c8191_i32_659 : BitVec 32 := 8191#32
  let v1575 : BitVec 32 := Scalar.andi v1574 c8191_i32_659
  let v1583 : Index := Scalar.indexCast v1575
  let c0_663 : Index := 0#32
  ![v1583.toNat, 0]

def k0_chk348 (i : grid0.Coords) (v13 : BitVec 32) (v1573 : BitVec 32) : Prop :=
  (∀ (k0_h5 : k0_cond5 i v13 = 1#1), 8 ∣ (k0_mult345 v1573).toNat) ∧
  (∀ (k0_h5 : k0_cond5 i v13 = 1#1), ∀ a, (k0_off799 v1573) a + S8x128.size a ≤ S65536x128.size a) ∧
  (∀ (k0_h5 : k0_cond5 i v13 = 1#1), ∀ a, (k0_off800 v1573) a + S1x128.size a ≤ S8192x128.size a)
theorem k0_mult345_dvd : ∀ (i : grid0.Coords) (v13 : BitVec 32) (v1573 : BitVec 32) (k0_hw348 : k0_chk348 i v13 v1573), ∀ (k0_h5 : k0_cond5 i v13 = 1#1), 8 ∣ (k0_mult345 v1573).toNat := fun i v13 v1573 k0_hw348 k0_h5 => k0_hw348.1 k0_h5
theorem k0_off799_inb : ∀ (i : grid0.Coords) (v13 : BitVec 32) (v1573 : BitVec 32) (k0_hw348 : k0_chk348 i v13 v1573), ∀ (k0_h5 : k0_cond5 i v13 = 1#1), ∀ a, (k0_off799 v1573) a + S8x128.size a ≤ S65536x128.size a := fun i v13 v1573 k0_hw348 k0_h5 => k0_hw348.2.1 k0_h5
theorem k0_off800_inb : ∀ (i : grid0.Coords) (v13 : BitVec 32) (v1573 : BitVec 32) (k0_hw348 : k0_chk348 i v13 v1573), ∀ (k0_h5 : k0_cond5 i v13 = 1#1), ∀ a, (k0_off800 v1573) a + S1x128.size a ≤ S8192x128.size a := fun i v13 v1573 k0_hw348 k0_h5 => k0_hw348.2.2 k0_h5

def k0_off801 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c89_i32 : BitVec 32 := 89#32
  let v1588 : BitVec 32 := Scalar.addi v74 c89_i32
  let v1589 : Index := Scalar.indexCast v1588
  ![v1589.toNat]
def k0_mult346 (v1590 : BitVec 32) : BitVec 32 :=
  let c3_i32_666 : BitVec 32 := 3#32
  let v1591 : BitVec 32 := Scalar.shrsi v1590 c3_i32_666
  let c8191_i32_667 : BitVec 32 := 8191#32
  let v1592 : BitVec 32 := Scalar.andi v1591 c8191_i32_667
  let c8_i32_668 : BitVec 32 := 8#32
  let v1593 : BitVec 32 := Scalar.muli v1592 c8_i32_668
  v1593

def k0_off802 (v1590 : BitVec 32) : Fin 2 → Nat :=
  let c3_i32_666 : BitVec 32 := 3#32
  let v1591 : BitVec 32 := Scalar.shrsi v1590 c3_i32_666
  let c8191_i32_667 : BitVec 32 := 8191#32
  let v1592 : BitVec 32 := Scalar.andi v1591 c8191_i32_667
  let c8_i32_668 : BitVec 32 := 8#32
  let v1593 : BitVec 32 := Scalar.muli v1592 c8_i32_668
  let v1594 : BitVec 32 := v1593
  let v1595 : Index := Scalar.indexCast v1594
  let c0_669 : Index := 0#32
  ![v1595.toNat, 0]
def k0_off803 (v1590 : BitVec 32) : Fin 2 → Nat :=
  let c3_i32_666 : BitVec 32 := 3#32
  let v1591 : BitVec 32 := Scalar.shrsi v1590 c3_i32_666
  let c8191_i32_667 : BitVec 32 := 8191#32
  let v1592 : BitVec 32 := Scalar.andi v1591 c8191_i32_667
  let v1600 : Index := Scalar.indexCast v1592
  let c0_671 : Index := 0#32
  ![v1600.toNat, 0]

def k0_chk349 (i : grid0.Coords) (v13 : BitVec 32) (v1590 : BitVec 32) : Prop :=
  (∀ (k0_h5 : k0_cond5 i v13 = 1#1), 8 ∣ (k0_mult346 v1590).toNat) ∧
  (∀ (k0_h5 : k0_cond5 i v13 = 1#1), ∀ a, (k0_off802 v1590) a + S8x128.size a ≤ S65536x128.size a) ∧
  (∀ (k0_h5 : k0_cond5 i v13 = 1#1), ∀ a, (k0_off803 v1590) a + S1x128.size a ≤ S8192x128.size a)
theorem k0_mult346_dvd : ∀ (i : grid0.Coords) (v13 : BitVec 32) (v1590 : BitVec 32) (k0_hw349 : k0_chk349 i v13 v1590), ∀ (k0_h5 : k0_cond5 i v13 = 1#1), 8 ∣ (k0_mult346 v1590).toNat := fun i v13 v1590 k0_hw349 k0_h5 => k0_hw349.1 k0_h5
theorem k0_off802_inb : ∀ (i : grid0.Coords) (v13 : BitVec 32) (v1590 : BitVec 32) (k0_hw349 : k0_chk349 i v13 v1590), ∀ (k0_h5 : k0_cond5 i v13 = 1#1), ∀ a, (k0_off802 v1590) a + S8x128.size a ≤ S65536x128.size a := fun i v13 v1590 k0_hw349 k0_h5 => k0_hw349.2.1 k0_h5
theorem k0_off803_inb : ∀ (i : grid0.Coords) (v13 : BitVec 32) (v1590 : BitVec 32) (k0_hw349 : k0_chk349 i v13 v1590), ∀ (k0_h5 : k0_cond5 i v13 = 1#1), ∀ a, (k0_off803 v1590) a + S1x128.size a ≤ S8192x128.size a := fun i v13 v1590 k0_hw349 k0_h5 => k0_hw349.2.2 k0_h5

def k0_off804 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c90_i32 : BitVec 32 := 90#32
  let v1605 : BitVec 32 := Scalar.addi v74 c90_i32
  let v1606 : Index := Scalar.indexCast v1605
  ![v1606.toNat]
def k0_mult347 (v1607 : BitVec 32) : BitVec 32 :=
  let c3_i32_673 : BitVec 32 := 3#32
  let v1608 : BitVec 32 := Scalar.shrsi v1607 c3_i32_673
  let c8191_i32_674 : BitVec 32 := 8191#32
  let v1609 : BitVec 32 := Scalar.andi v1608 c8191_i32_674
  let c8_i32_675 : BitVec 32 := 8#32
  let v1610 : BitVec 32 := Scalar.muli v1609 c8_i32_675
  v1610

def k0_off805 (v1607 : BitVec 32) : Fin 2 → Nat :=
  let c3_i32_673 : BitVec 32 := 3#32
  let v1608 : BitVec 32 := Scalar.shrsi v1607 c3_i32_673
  let c8191_i32_674 : BitVec 32 := 8191#32
  let v1609 : BitVec 32 := Scalar.andi v1608 c8191_i32_674
  let c8_i32_675 : BitVec 32 := 8#32
  let v1610 : BitVec 32 := Scalar.muli v1609 c8_i32_675
  let v1611 : BitVec 32 := v1610
  let v1612 : Index := Scalar.indexCast v1611
  let c0_676 : Index := 0#32
  ![v1612.toNat, 0]
def k0_off806 (v1607 : BitVec 32) : Fin 2 → Nat :=
  let c3_i32_673 : BitVec 32 := 3#32
  let v1608 : BitVec 32 := Scalar.shrsi v1607 c3_i32_673
  let c8191_i32_674 : BitVec 32 := 8191#32
  let v1609 : BitVec 32 := Scalar.andi v1608 c8191_i32_674
  let v1617 : Index := Scalar.indexCast v1609
  let c0_678 : Index := 0#32
  ![v1617.toNat, 0]

def k0_chk350 (i : grid0.Coords) (v13 : BitVec 32) (v1607 : BitVec 32) : Prop :=
  (∀ (k0_h5 : k0_cond5 i v13 = 1#1), 8 ∣ (k0_mult347 v1607).toNat) ∧
  (∀ (k0_h5 : k0_cond5 i v13 = 1#1), ∀ a, (k0_off805 v1607) a + S8x128.size a ≤ S65536x128.size a) ∧
  (∀ (k0_h5 : k0_cond5 i v13 = 1#1), ∀ a, (k0_off806 v1607) a + S1x128.size a ≤ S8192x128.size a)
theorem k0_mult347_dvd : ∀ (i : grid0.Coords) (v13 : BitVec 32) (v1607 : BitVec 32) (k0_hw350 : k0_chk350 i v13 v1607), ∀ (k0_h5 : k0_cond5 i v13 = 1#1), 8 ∣ (k0_mult347 v1607).toNat := fun i v13 v1607 k0_hw350 k0_h5 => k0_hw350.1 k0_h5
theorem k0_off805_inb : ∀ (i : grid0.Coords) (v13 : BitVec 32) (v1607 : BitVec 32) (k0_hw350 : k0_chk350 i v13 v1607), ∀ (k0_h5 : k0_cond5 i v13 = 1#1), ∀ a, (k0_off805 v1607) a + S8x128.size a ≤ S65536x128.size a := fun i v13 v1607 k0_hw350 k0_h5 => k0_hw350.2.1 k0_h5
theorem k0_off806_inb : ∀ (i : grid0.Coords) (v13 : BitVec 32) (v1607 : BitVec 32) (k0_hw350 : k0_chk350 i v13 v1607), ∀ (k0_h5 : k0_cond5 i v13 = 1#1), ∀ a, (k0_off806 v1607) a + S1x128.size a ≤ S8192x128.size a := fun i v13 v1607 k0_hw350 k0_h5 => k0_hw350.2.2 k0_h5

def k0_off807 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c91_i32 : BitVec 32 := 91#32
  let v1622 : BitVec 32 := Scalar.addi v74 c91_i32
  let v1623 : Index := Scalar.indexCast v1622
  ![v1623.toNat]
def k0_mult348 (v1624 : BitVec 32) : BitVec 32 :=
  let c3_i32_680 : BitVec 32 := 3#32
  let v1625 : BitVec 32 := Scalar.shrsi v1624 c3_i32_680
  let c8191_i32_681 : BitVec 32 := 8191#32
  let v1626 : BitVec 32 := Scalar.andi v1625 c8191_i32_681
  let c8_i32_682 : BitVec 32 := 8#32
  let v1627 : BitVec 32 := Scalar.muli v1626 c8_i32_682
  v1627

def k0_off808 (v1624 : BitVec 32) : Fin 2 → Nat :=
  let c3_i32_680 : BitVec 32 := 3#32
  let v1625 : BitVec 32 := Scalar.shrsi v1624 c3_i32_680
  let c8191_i32_681 : BitVec 32 := 8191#32
  let v1626 : BitVec 32 := Scalar.andi v1625 c8191_i32_681
  let c8_i32_682 : BitVec 32 := 8#32
  let v1627 : BitVec 32 := Scalar.muli v1626 c8_i32_682
  let v1628 : BitVec 32 := v1627
  let v1629 : Index := Scalar.indexCast v1628
  let c0_683 : Index := 0#32
  ![v1629.toNat, 0]
def k0_off809 (v1624 : BitVec 32) : Fin 2 → Nat :=
  let c3_i32_680 : BitVec 32 := 3#32
  let v1625 : BitVec 32 := Scalar.shrsi v1624 c3_i32_680
  let c8191_i32_681 : BitVec 32 := 8191#32
  let v1626 : BitVec 32 := Scalar.andi v1625 c8191_i32_681
  let v1634 : Index := Scalar.indexCast v1626
  let c0_685 : Index := 0#32
  ![v1634.toNat, 0]

def k0_chk351 (i : grid0.Coords) (v13 : BitVec 32) (v1624 : BitVec 32) : Prop :=
  (∀ (k0_h5 : k0_cond5 i v13 = 1#1), 8 ∣ (k0_mult348 v1624).toNat) ∧
  (∀ (k0_h5 : k0_cond5 i v13 = 1#1), ∀ a, (k0_off808 v1624) a + S8x128.size a ≤ S65536x128.size a) ∧
  (∀ (k0_h5 : k0_cond5 i v13 = 1#1), ∀ a, (k0_off809 v1624) a + S1x128.size a ≤ S8192x128.size a)
theorem k0_mult348_dvd : ∀ (i : grid0.Coords) (v13 : BitVec 32) (v1624 : BitVec 32) (k0_hw351 : k0_chk351 i v13 v1624), ∀ (k0_h5 : k0_cond5 i v13 = 1#1), 8 ∣ (k0_mult348 v1624).toNat := fun i v13 v1624 k0_hw351 k0_h5 => k0_hw351.1 k0_h5
theorem k0_off808_inb : ∀ (i : grid0.Coords) (v13 : BitVec 32) (v1624 : BitVec 32) (k0_hw351 : k0_chk351 i v13 v1624), ∀ (k0_h5 : k0_cond5 i v13 = 1#1), ∀ a, (k0_off808 v1624) a + S8x128.size a ≤ S65536x128.size a := fun i v13 v1624 k0_hw351 k0_h5 => k0_hw351.2.1 k0_h5
theorem k0_off809_inb : ∀ (i : grid0.Coords) (v13 : BitVec 32) (v1624 : BitVec 32) (k0_hw351 : k0_chk351 i v13 v1624), ∀ (k0_h5 : k0_cond5 i v13 = 1#1), ∀ a, (k0_off809 v1624) a + S1x128.size a ≤ S8192x128.size a := fun i v13 v1624 k0_hw351 k0_h5 => k0_hw351.2.2 k0_h5

def k0_off810 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c92_i32 : BitVec 32 := 92#32
  let v1639 : BitVec 32 := Scalar.addi v74 c92_i32
  let v1640 : Index := Scalar.indexCast v1639
  ![v1640.toNat]
def k0_mult349 (v1641 : BitVec 32) : BitVec 32 :=
  let c3_i32_687 : BitVec 32 := 3#32
  let v1642 : BitVec 32 := Scalar.shrsi v1641 c3_i32_687
  let c8191_i32_688 : BitVec 32 := 8191#32
  let v1643 : BitVec 32 := Scalar.andi v1642 c8191_i32_688
  let c8_i32_689 : BitVec 32 := 8#32
  let v1644 : BitVec 32 := Scalar.muli v1643 c8_i32_689
  v1644

def k0_off811 (v1641 : BitVec 32) : Fin 2 → Nat :=
  let c3_i32_687 : BitVec 32 := 3#32
  let v1642 : BitVec 32 := Scalar.shrsi v1641 c3_i32_687
  let c8191_i32_688 : BitVec 32 := 8191#32
  let v1643 : BitVec 32 := Scalar.andi v1642 c8191_i32_688
  let c8_i32_689 : BitVec 32 := 8#32
  let v1644 : BitVec 32 := Scalar.muli v1643 c8_i32_689
  let v1645 : BitVec 32 := v1644
  let v1646 : Index := Scalar.indexCast v1645
  let c0_690 : Index := 0#32
  ![v1646.toNat, 0]
def k0_off812 (v1641 : BitVec 32) : Fin 2 → Nat :=
  let c3_i32_687 : BitVec 32 := 3#32
  let v1642 : BitVec 32 := Scalar.shrsi v1641 c3_i32_687
  let c8191_i32_688 : BitVec 32 := 8191#32
  let v1643 : BitVec 32 := Scalar.andi v1642 c8191_i32_688
  let v1651 : Index := Scalar.indexCast v1643
  let c0_692 : Index := 0#32
  ![v1651.toNat, 0]

def k0_chk352 (i : grid0.Coords) (v13 : BitVec 32) (v1641 : BitVec 32) : Prop :=
  (∀ (k0_h5 : k0_cond5 i v13 = 1#1), 8 ∣ (k0_mult349 v1641).toNat) ∧
  (∀ (k0_h5 : k0_cond5 i v13 = 1#1), ∀ a, (k0_off811 v1641) a + S8x128.size a ≤ S65536x128.size a) ∧
  (∀ (k0_h5 : k0_cond5 i v13 = 1#1), ∀ a, (k0_off812 v1641) a + S1x128.size a ≤ S8192x128.size a)
theorem k0_mult349_dvd : ∀ (i : grid0.Coords) (v13 : BitVec 32) (v1641 : BitVec 32) (k0_hw352 : k0_chk352 i v13 v1641), ∀ (k0_h5 : k0_cond5 i v13 = 1#1), 8 ∣ (k0_mult349 v1641).toNat := fun i v13 v1641 k0_hw352 k0_h5 => k0_hw352.1 k0_h5
theorem k0_off811_inb : ∀ (i : grid0.Coords) (v13 : BitVec 32) (v1641 : BitVec 32) (k0_hw352 : k0_chk352 i v13 v1641), ∀ (k0_h5 : k0_cond5 i v13 = 1#1), ∀ a, (k0_off811 v1641) a + S8x128.size a ≤ S65536x128.size a := fun i v13 v1641 k0_hw352 k0_h5 => k0_hw352.2.1 k0_h5
theorem k0_off812_inb : ∀ (i : grid0.Coords) (v13 : BitVec 32) (v1641 : BitVec 32) (k0_hw352 : k0_chk352 i v13 v1641), ∀ (k0_h5 : k0_cond5 i v13 = 1#1), ∀ a, (k0_off812 v1641) a + S1x128.size a ≤ S8192x128.size a := fun i v13 v1641 k0_hw352 k0_h5 => k0_hw352.2.2 k0_h5

def k0_off813 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c93_i32 : BitVec 32 := 93#32
  let v1656 : BitVec 32 := Scalar.addi v74 c93_i32
  let v1657 : Index := Scalar.indexCast v1656
  ![v1657.toNat]
def k0_mult350 (v1658 : BitVec 32) : BitVec 32 :=
  let c3_i32_694 : BitVec 32 := 3#32
  let v1659 : BitVec 32 := Scalar.shrsi v1658 c3_i32_694
  let c8191_i32_695 : BitVec 32 := 8191#32
  let v1660 : BitVec 32 := Scalar.andi v1659 c8191_i32_695
  let c8_i32_696 : BitVec 32 := 8#32
  let v1661 : BitVec 32 := Scalar.muli v1660 c8_i32_696
  v1661

def k0_off814 (v1658 : BitVec 32) : Fin 2 → Nat :=
  let c3_i32_694 : BitVec 32 := 3#32
  let v1659 : BitVec 32 := Scalar.shrsi v1658 c3_i32_694
  let c8191_i32_695 : BitVec 32 := 8191#32
  let v1660 : BitVec 32 := Scalar.andi v1659 c8191_i32_695
  let c8_i32_696 : BitVec 32 := 8#32
  let v1661 : BitVec 32 := Scalar.muli v1660 c8_i32_696
  let v1662 : BitVec 32 := v1661
  let v1663 : Index := Scalar.indexCast v1662
  let c0_697 : Index := 0#32
  ![v1663.toNat, 0]
def k0_off815 (v1658 : BitVec 32) : Fin 2 → Nat :=
  let c3_i32_694 : BitVec 32 := 3#32
  let v1659 : BitVec 32 := Scalar.shrsi v1658 c3_i32_694
  let c8191_i32_695 : BitVec 32 := 8191#32
  let v1660 : BitVec 32 := Scalar.andi v1659 c8191_i32_695
  let v1668 : Index := Scalar.indexCast v1660
  let c0_699 : Index := 0#32
  ![v1668.toNat, 0]

def k0_chk353 (i : grid0.Coords) (v13 : BitVec 32) (v1658 : BitVec 32) : Prop :=
  (∀ (k0_h5 : k0_cond5 i v13 = 1#1), 8 ∣ (k0_mult350 v1658).toNat) ∧
  (∀ (k0_h5 : k0_cond5 i v13 = 1#1), ∀ a, (k0_off814 v1658) a + S8x128.size a ≤ S65536x128.size a) ∧
  (∀ (k0_h5 : k0_cond5 i v13 = 1#1), ∀ a, (k0_off815 v1658) a + S1x128.size a ≤ S8192x128.size a)
theorem k0_mult350_dvd : ∀ (i : grid0.Coords) (v13 : BitVec 32) (v1658 : BitVec 32) (k0_hw353 : k0_chk353 i v13 v1658), ∀ (k0_h5 : k0_cond5 i v13 = 1#1), 8 ∣ (k0_mult350 v1658).toNat := fun i v13 v1658 k0_hw353 k0_h5 => k0_hw353.1 k0_h5
theorem k0_off814_inb : ∀ (i : grid0.Coords) (v13 : BitVec 32) (v1658 : BitVec 32) (k0_hw353 : k0_chk353 i v13 v1658), ∀ (k0_h5 : k0_cond5 i v13 = 1#1), ∀ a, (k0_off814 v1658) a + S8x128.size a ≤ S65536x128.size a := fun i v13 v1658 k0_hw353 k0_h5 => k0_hw353.2.1 k0_h5
theorem k0_off815_inb : ∀ (i : grid0.Coords) (v13 : BitVec 32) (v1658 : BitVec 32) (k0_hw353 : k0_chk353 i v13 v1658), ∀ (k0_h5 : k0_cond5 i v13 = 1#1), ∀ a, (k0_off815 v1658) a + S1x128.size a ≤ S8192x128.size a := fun i v13 v1658 k0_hw353 k0_h5 => k0_hw353.2.2 k0_h5

def k0_off816 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c94_i32 : BitVec 32 := 94#32
  let v1673 : BitVec 32 := Scalar.addi v74 c94_i32
  let v1674 : Index := Scalar.indexCast v1673
  ![v1674.toNat]
def k0_mult351 (v1675 : BitVec 32) : BitVec 32 :=
  let c3_i32_701 : BitVec 32 := 3#32
  let v1676 : BitVec 32 := Scalar.shrsi v1675 c3_i32_701
  let c8191_i32_702 : BitVec 32 := 8191#32
  let v1677 : BitVec 32 := Scalar.andi v1676 c8191_i32_702
  let c8_i32_703 : BitVec 32 := 8#32
  let v1678 : BitVec 32 := Scalar.muli v1677 c8_i32_703
  v1678

def k0_off817 (v1675 : BitVec 32) : Fin 2 → Nat :=
  let c3_i32_701 : BitVec 32 := 3#32
  let v1676 : BitVec 32 := Scalar.shrsi v1675 c3_i32_701
  let c8191_i32_702 : BitVec 32 := 8191#32
  let v1677 : BitVec 32 := Scalar.andi v1676 c8191_i32_702
  let c8_i32_703 : BitVec 32 := 8#32
  let v1678 : BitVec 32 := Scalar.muli v1677 c8_i32_703
  let v1679 : BitVec 32 := v1678
  let v1680 : Index := Scalar.indexCast v1679
  let c0_704 : Index := 0#32
  ![v1680.toNat, 0]
def k0_off818 (v1675 : BitVec 32) : Fin 2 → Nat :=
  let c3_i32_701 : BitVec 32 := 3#32
  let v1676 : BitVec 32 := Scalar.shrsi v1675 c3_i32_701
  let c8191_i32_702 : BitVec 32 := 8191#32
  let v1677 : BitVec 32 := Scalar.andi v1676 c8191_i32_702
  let v1685 : Index := Scalar.indexCast v1677
  let c0_706 : Index := 0#32
  ![v1685.toNat, 0]

def k0_chk354 (i : grid0.Coords) (v13 : BitVec 32) (v1675 : BitVec 32) : Prop :=
  (∀ (k0_h5 : k0_cond5 i v13 = 1#1), 8 ∣ (k0_mult351 v1675).toNat) ∧
  (∀ (k0_h5 : k0_cond5 i v13 = 1#1), ∀ a, (k0_off817 v1675) a + S8x128.size a ≤ S65536x128.size a) ∧
  (∀ (k0_h5 : k0_cond5 i v13 = 1#1), ∀ a, (k0_off818 v1675) a + S1x128.size a ≤ S8192x128.size a)
theorem k0_mult351_dvd : ∀ (i : grid0.Coords) (v13 : BitVec 32) (v1675 : BitVec 32) (k0_hw354 : k0_chk354 i v13 v1675), ∀ (k0_h5 : k0_cond5 i v13 = 1#1), 8 ∣ (k0_mult351 v1675).toNat := fun i v13 v1675 k0_hw354 k0_h5 => k0_hw354.1 k0_h5
theorem k0_off817_inb : ∀ (i : grid0.Coords) (v13 : BitVec 32) (v1675 : BitVec 32) (k0_hw354 : k0_chk354 i v13 v1675), ∀ (k0_h5 : k0_cond5 i v13 = 1#1), ∀ a, (k0_off817 v1675) a + S8x128.size a ≤ S65536x128.size a := fun i v13 v1675 k0_hw354 k0_h5 => k0_hw354.2.1 k0_h5
theorem k0_off818_inb : ∀ (i : grid0.Coords) (v13 : BitVec 32) (v1675 : BitVec 32) (k0_hw354 : k0_chk354 i v13 v1675), ∀ (k0_h5 : k0_cond5 i v13 = 1#1), ∀ a, (k0_off818 v1675) a + S1x128.size a ≤ S8192x128.size a := fun i v13 v1675 k0_hw354 k0_h5 => k0_hw354.2.2 k0_h5

def k0_off819 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c95_i32 : BitVec 32 := 95#32
  let v1690 : BitVec 32 := Scalar.addi v74 c95_i32
  let v1691 : Index := Scalar.indexCast v1690
  ![v1691.toNat]
def k0_mult352 (v1692 : BitVec 32) : BitVec 32 :=
  let c3_i32_708 : BitVec 32 := 3#32
  let v1693 : BitVec 32 := Scalar.shrsi v1692 c3_i32_708
  let c8191_i32_709 : BitVec 32 := 8191#32
  let v1694 : BitVec 32 := Scalar.andi v1693 c8191_i32_709
  let c8_i32_710 : BitVec 32 := 8#32
  let v1695 : BitVec 32 := Scalar.muli v1694 c8_i32_710
  v1695

def k0_off820 (v1692 : BitVec 32) : Fin 2 → Nat :=
  let c3_i32_708 : BitVec 32 := 3#32
  let v1693 : BitVec 32 := Scalar.shrsi v1692 c3_i32_708
  let c8191_i32_709 : BitVec 32 := 8191#32
  let v1694 : BitVec 32 := Scalar.andi v1693 c8191_i32_709
  let c8_i32_710 : BitVec 32 := 8#32
  let v1695 : BitVec 32 := Scalar.muli v1694 c8_i32_710
  let v1696 : BitVec 32 := v1695
  let v1697 : Index := Scalar.indexCast v1696
  let c0_711 : Index := 0#32
  ![v1697.toNat, 0]
def k0_off821 (v1692 : BitVec 32) : Fin 2 → Nat :=
  let c3_i32_708 : BitVec 32 := 3#32
  let v1693 : BitVec 32 := Scalar.shrsi v1692 c3_i32_708
  let c8191_i32_709 : BitVec 32 := 8191#32
  let v1694 : BitVec 32 := Scalar.andi v1693 c8191_i32_709
  let v1702 : Index := Scalar.indexCast v1694
  let c0_713 : Index := 0#32
  ![v1702.toNat, 0]

def k0_chk355 (i : grid0.Coords) (v13 : BitVec 32) (v1692 : BitVec 32) : Prop :=
  (∀ (k0_h5 : k0_cond5 i v13 = 1#1), 8 ∣ (k0_mult352 v1692).toNat) ∧
  (∀ (k0_h5 : k0_cond5 i v13 = 1#1), ∀ a, (k0_off820 v1692) a + S8x128.size a ≤ S65536x128.size a) ∧
  (∀ (k0_h5 : k0_cond5 i v13 = 1#1), ∀ a, (k0_off821 v1692) a + S1x128.size a ≤ S8192x128.size a)
theorem k0_mult352_dvd : ∀ (i : grid0.Coords) (v13 : BitVec 32) (v1692 : BitVec 32) (k0_hw355 : k0_chk355 i v13 v1692), ∀ (k0_h5 : k0_cond5 i v13 = 1#1), 8 ∣ (k0_mult352 v1692).toNat := fun i v13 v1692 k0_hw355 k0_h5 => k0_hw355.1 k0_h5
theorem k0_off820_inb : ∀ (i : grid0.Coords) (v13 : BitVec 32) (v1692 : BitVec 32) (k0_hw355 : k0_chk355 i v13 v1692), ∀ (k0_h5 : k0_cond5 i v13 = 1#1), ∀ a, (k0_off820 v1692) a + S8x128.size a ≤ S65536x128.size a := fun i v13 v1692 k0_hw355 k0_h5 => k0_hw355.2.1 k0_h5
theorem k0_off821_inb : ∀ (i : grid0.Coords) (v13 : BitVec 32) (v1692 : BitVec 32) (k0_hw355 : k0_chk355 i v13 v1692), ∀ (k0_h5 : k0_cond5 i v13 = 1#1), ∀ a, (k0_off821 v1692) a + S1x128.size a ≤ S8192x128.size a := fun i v13 v1692 k0_hw355 k0_h5 => k0_hw355.2.2 k0_h5

def k0_off822 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c96_i32 : BitVec 32 := 96#32
  let v1707 : BitVec 32 := Scalar.addi v74 c96_i32
  let v1708 : Index := Scalar.indexCast v1707
  ![v1708.toNat]
def k0_mult353 (v1709 : BitVec 32) : BitVec 32 :=
  let c3_i32_715 : BitVec 32 := 3#32
  let v1710 : BitVec 32 := Scalar.shrsi v1709 c3_i32_715
  let c8191_i32_716 : BitVec 32 := 8191#32
  let v1711 : BitVec 32 := Scalar.andi v1710 c8191_i32_716
  let c8_i32_717 : BitVec 32 := 8#32
  let v1712 : BitVec 32 := Scalar.muli v1711 c8_i32_717
  v1712

def k0_off823 (v1709 : BitVec 32) : Fin 2 → Nat :=
  let c3_i32_715 : BitVec 32 := 3#32
  let v1710 : BitVec 32 := Scalar.shrsi v1709 c3_i32_715
  let c8191_i32_716 : BitVec 32 := 8191#32
  let v1711 : BitVec 32 := Scalar.andi v1710 c8191_i32_716
  let c8_i32_717 : BitVec 32 := 8#32
  let v1712 : BitVec 32 := Scalar.muli v1711 c8_i32_717
  let v1713 : BitVec 32 := v1712
  let v1714 : Index := Scalar.indexCast v1713
  let c0_718 : Index := 0#32
  ![v1714.toNat, 0]
def k0_off824 (v1709 : BitVec 32) : Fin 2 → Nat :=
  let c3_i32_715 : BitVec 32 := 3#32
  let v1710 : BitVec 32 := Scalar.shrsi v1709 c3_i32_715
  let c8191_i32_716 : BitVec 32 := 8191#32
  let v1711 : BitVec 32 := Scalar.andi v1710 c8191_i32_716
  let v1719 : Index := Scalar.indexCast v1711
  let c0_720 : Index := 0#32
  ![v1719.toNat, 0]

def k0_chk356 (i : grid0.Coords) (v13 : BitVec 32) (v1709 : BitVec 32) : Prop :=
  (∀ (k0_h5 : k0_cond5 i v13 = 1#1), 8 ∣ (k0_mult353 v1709).toNat) ∧
  (∀ (k0_h5 : k0_cond5 i v13 = 1#1), ∀ a, (k0_off823 v1709) a + S8x128.size a ≤ S65536x128.size a) ∧
  (∀ (k0_h5 : k0_cond5 i v13 = 1#1), ∀ a, (k0_off824 v1709) a + S1x128.size a ≤ S8192x128.size a)
theorem k0_mult353_dvd : ∀ (i : grid0.Coords) (v13 : BitVec 32) (v1709 : BitVec 32) (k0_hw356 : k0_chk356 i v13 v1709), ∀ (k0_h5 : k0_cond5 i v13 = 1#1), 8 ∣ (k0_mult353 v1709).toNat := fun i v13 v1709 k0_hw356 k0_h5 => k0_hw356.1 k0_h5
theorem k0_off823_inb : ∀ (i : grid0.Coords) (v13 : BitVec 32) (v1709 : BitVec 32) (k0_hw356 : k0_chk356 i v13 v1709), ∀ (k0_h5 : k0_cond5 i v13 = 1#1), ∀ a, (k0_off823 v1709) a + S8x128.size a ≤ S65536x128.size a := fun i v13 v1709 k0_hw356 k0_h5 => k0_hw356.2.1 k0_h5
theorem k0_off824_inb : ∀ (i : grid0.Coords) (v13 : BitVec 32) (v1709 : BitVec 32) (k0_hw356 : k0_chk356 i v13 v1709), ∀ (k0_h5 : k0_cond5 i v13 = 1#1), ∀ a, (k0_off824 v1709) a + S1x128.size a ≤ S8192x128.size a := fun i v13 v1709 k0_hw356 k0_h5 => k0_hw356.2.2 k0_h5

def k0_off825 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c97_i32 : BitVec 32 := 97#32
  let v1724 : BitVec 32 := Scalar.addi v74 c97_i32
  let v1725 : Index := Scalar.indexCast v1724
  ![v1725.toNat]
def k0_mult354 (v1726 : BitVec 32) : BitVec 32 :=
  let c3_i32_723 : BitVec 32 := 3#32
  let v1727 : BitVec 32 := Scalar.shrsi v1726 c3_i32_723
  let c8191_i32_724 : BitVec 32 := 8191#32
  let v1728 : BitVec 32 := Scalar.andi v1727 c8191_i32_724
  let c8_i32_725 : BitVec 32 := 8#32
  let v1729 : BitVec 32 := Scalar.muli v1728 c8_i32_725
  v1729

def k0_off826 (v1726 : BitVec 32) : Fin 2 → Nat :=
  let c3_i32_723 : BitVec 32 := 3#32
  let v1727 : BitVec 32 := Scalar.shrsi v1726 c3_i32_723
  let c8191_i32_724 : BitVec 32 := 8191#32
  let v1728 : BitVec 32 := Scalar.andi v1727 c8191_i32_724
  let c8_i32_725 : BitVec 32 := 8#32
  let v1729 : BitVec 32 := Scalar.muli v1728 c8_i32_725
  let v1730 : BitVec 32 := v1729
  let v1731 : Index := Scalar.indexCast v1730
  let c0_726 : Index := 0#32
  ![v1731.toNat, 0]
def k0_off827 (v1726 : BitVec 32) : Fin 2 → Nat :=
  let c3_i32_723 : BitVec 32 := 3#32
  let v1727 : BitVec 32 := Scalar.shrsi v1726 c3_i32_723
  let c8191_i32_724 : BitVec 32 := 8191#32
  let v1728 : BitVec 32 := Scalar.andi v1727 c8191_i32_724
  let v1736 : Index := Scalar.indexCast v1728
  let c0_728 : Index := 0#32
  ![v1736.toNat, 0]

def k0_chk357 (i : grid0.Coords) (v13 : BitVec 32) (v1726 : BitVec 32) : Prop :=
  (∀ (k0_h5 : k0_cond5 i v13 = 1#1), 8 ∣ (k0_mult354 v1726).toNat) ∧
  (∀ (k0_h5 : k0_cond5 i v13 = 1#1), ∀ a, (k0_off826 v1726) a + S8x128.size a ≤ S65536x128.size a) ∧
  (∀ (k0_h5 : k0_cond5 i v13 = 1#1), ∀ a, (k0_off827 v1726) a + S1x128.size a ≤ S8192x128.size a)
theorem k0_mult354_dvd : ∀ (i : grid0.Coords) (v13 : BitVec 32) (v1726 : BitVec 32) (k0_hw357 : k0_chk357 i v13 v1726), ∀ (k0_h5 : k0_cond5 i v13 = 1#1), 8 ∣ (k0_mult354 v1726).toNat := fun i v13 v1726 k0_hw357 k0_h5 => k0_hw357.1 k0_h5
theorem k0_off826_inb : ∀ (i : grid0.Coords) (v13 : BitVec 32) (v1726 : BitVec 32) (k0_hw357 : k0_chk357 i v13 v1726), ∀ (k0_h5 : k0_cond5 i v13 = 1#1), ∀ a, (k0_off826 v1726) a + S8x128.size a ≤ S65536x128.size a := fun i v13 v1726 k0_hw357 k0_h5 => k0_hw357.2.1 k0_h5
theorem k0_off827_inb : ∀ (i : grid0.Coords) (v13 : BitVec 32) (v1726 : BitVec 32) (k0_hw357 : k0_chk357 i v13 v1726), ∀ (k0_h5 : k0_cond5 i v13 = 1#1), ∀ a, (k0_off827 v1726) a + S1x128.size a ≤ S8192x128.size a := fun i v13 v1726 k0_hw357 k0_h5 => k0_hw357.2.2 k0_h5

def k0_off828 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c98_i32 : BitVec 32 := 98#32
  let v1741 : BitVec 32 := Scalar.addi v74 c98_i32
  let v1742 : Index := Scalar.indexCast v1741
  ![v1742.toNat]
def k0_mult355 (v1743 : BitVec 32) : BitVec 32 :=
  let c3_i32_730 : BitVec 32 := 3#32
  let v1744 : BitVec 32 := Scalar.shrsi v1743 c3_i32_730
  let c8191_i32_731 : BitVec 32 := 8191#32
  let v1745 : BitVec 32 := Scalar.andi v1744 c8191_i32_731
  let c8_i32_732 : BitVec 32 := 8#32
  let v1746 : BitVec 32 := Scalar.muli v1745 c8_i32_732
  v1746

def k0_off829 (v1743 : BitVec 32) : Fin 2 → Nat :=
  let c3_i32_730 : BitVec 32 := 3#32
  let v1744 : BitVec 32 := Scalar.shrsi v1743 c3_i32_730
  let c8191_i32_731 : BitVec 32 := 8191#32
  let v1745 : BitVec 32 := Scalar.andi v1744 c8191_i32_731
  let c8_i32_732 : BitVec 32 := 8#32
  let v1746 : BitVec 32 := Scalar.muli v1745 c8_i32_732
  let v1747 : BitVec 32 := v1746
  let v1748 : Index := Scalar.indexCast v1747
  let c0_733 : Index := 0#32
  ![v1748.toNat, 0]
def k0_off830 (v1743 : BitVec 32) : Fin 2 → Nat :=
  let c3_i32_730 : BitVec 32 := 3#32
  let v1744 : BitVec 32 := Scalar.shrsi v1743 c3_i32_730
  let c8191_i32_731 : BitVec 32 := 8191#32
  let v1745 : BitVec 32 := Scalar.andi v1744 c8191_i32_731
  let v1753 : Index := Scalar.indexCast v1745
  let c0_735 : Index := 0#32
  ![v1753.toNat, 0]

def k0_chk358 (i : grid0.Coords) (v13 : BitVec 32) (v1743 : BitVec 32) : Prop :=
  (∀ (k0_h5 : k0_cond5 i v13 = 1#1), 8 ∣ (k0_mult355 v1743).toNat) ∧
  (∀ (k0_h5 : k0_cond5 i v13 = 1#1), ∀ a, (k0_off829 v1743) a + S8x128.size a ≤ S65536x128.size a) ∧
  (∀ (k0_h5 : k0_cond5 i v13 = 1#1), ∀ a, (k0_off830 v1743) a + S1x128.size a ≤ S8192x128.size a)
theorem k0_mult355_dvd : ∀ (i : grid0.Coords) (v13 : BitVec 32) (v1743 : BitVec 32) (k0_hw358 : k0_chk358 i v13 v1743), ∀ (k0_h5 : k0_cond5 i v13 = 1#1), 8 ∣ (k0_mult355 v1743).toNat := fun i v13 v1743 k0_hw358 k0_h5 => k0_hw358.1 k0_h5
theorem k0_off829_inb : ∀ (i : grid0.Coords) (v13 : BitVec 32) (v1743 : BitVec 32) (k0_hw358 : k0_chk358 i v13 v1743), ∀ (k0_h5 : k0_cond5 i v13 = 1#1), ∀ a, (k0_off829 v1743) a + S8x128.size a ≤ S65536x128.size a := fun i v13 v1743 k0_hw358 k0_h5 => k0_hw358.2.1 k0_h5
theorem k0_off830_inb : ∀ (i : grid0.Coords) (v13 : BitVec 32) (v1743 : BitVec 32) (k0_hw358 : k0_chk358 i v13 v1743), ∀ (k0_h5 : k0_cond5 i v13 = 1#1), ∀ a, (k0_off830 v1743) a + S1x128.size a ≤ S8192x128.size a := fun i v13 v1743 k0_hw358 k0_h5 => k0_hw358.2.2 k0_h5

def k0_off831 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c99_i32 : BitVec 32 := 99#32
  let v1758 : BitVec 32 := Scalar.addi v74 c99_i32
  let v1759 : Index := Scalar.indexCast v1758
  ![v1759.toNat]
def k0_mult356 (v1760 : BitVec 32) : BitVec 32 :=
  let c3_i32_737 : BitVec 32 := 3#32
  let v1761 : BitVec 32 := Scalar.shrsi v1760 c3_i32_737
  let c8191_i32_738 : BitVec 32 := 8191#32
  let v1762 : BitVec 32 := Scalar.andi v1761 c8191_i32_738
  let c8_i32_739 : BitVec 32 := 8#32
  let v1763 : BitVec 32 := Scalar.muli v1762 c8_i32_739
  v1763

def k0_off832 (v1760 : BitVec 32) : Fin 2 → Nat :=
  let c3_i32_737 : BitVec 32 := 3#32
  let v1761 : BitVec 32 := Scalar.shrsi v1760 c3_i32_737
  let c8191_i32_738 : BitVec 32 := 8191#32
  let v1762 : BitVec 32 := Scalar.andi v1761 c8191_i32_738
  let c8_i32_739 : BitVec 32 := 8#32
  let v1763 : BitVec 32 := Scalar.muli v1762 c8_i32_739
  let v1764 : BitVec 32 := v1763
  let v1765 : Index := Scalar.indexCast v1764
  let c0_740 : Index := 0#32
  ![v1765.toNat, 0]
def k0_off833 (v1760 : BitVec 32) : Fin 2 → Nat :=
  let c3_i32_737 : BitVec 32 := 3#32
  let v1761 : BitVec 32 := Scalar.shrsi v1760 c3_i32_737
  let c8191_i32_738 : BitVec 32 := 8191#32
  let v1762 : BitVec 32 := Scalar.andi v1761 c8191_i32_738
  let v1770 : Index := Scalar.indexCast v1762
  let c0_742 : Index := 0#32
  ![v1770.toNat, 0]

def k0_chk359 (i : grid0.Coords) (v13 : BitVec 32) (v1760 : BitVec 32) : Prop :=
  (∀ (k0_h5 : k0_cond5 i v13 = 1#1), 8 ∣ (k0_mult356 v1760).toNat) ∧
  (∀ (k0_h5 : k0_cond5 i v13 = 1#1), ∀ a, (k0_off832 v1760) a + S8x128.size a ≤ S65536x128.size a) ∧
  (∀ (k0_h5 : k0_cond5 i v13 = 1#1), ∀ a, (k0_off833 v1760) a + S1x128.size a ≤ S8192x128.size a)
theorem k0_mult356_dvd : ∀ (i : grid0.Coords) (v13 : BitVec 32) (v1760 : BitVec 32) (k0_hw359 : k0_chk359 i v13 v1760), ∀ (k0_h5 : k0_cond5 i v13 = 1#1), 8 ∣ (k0_mult356 v1760).toNat := fun i v13 v1760 k0_hw359 k0_h5 => k0_hw359.1 k0_h5
theorem k0_off832_inb : ∀ (i : grid0.Coords) (v13 : BitVec 32) (v1760 : BitVec 32) (k0_hw359 : k0_chk359 i v13 v1760), ∀ (k0_h5 : k0_cond5 i v13 = 1#1), ∀ a, (k0_off832 v1760) a + S8x128.size a ≤ S65536x128.size a := fun i v13 v1760 k0_hw359 k0_h5 => k0_hw359.2.1 k0_h5
theorem k0_off833_inb : ∀ (i : grid0.Coords) (v13 : BitVec 32) (v1760 : BitVec 32) (k0_hw359 : k0_chk359 i v13 v1760), ∀ (k0_h5 : k0_cond5 i v13 = 1#1), ∀ a, (k0_off833 v1760) a + S1x128.size a ≤ S8192x128.size a := fun i v13 v1760 k0_hw359 k0_h5 => k0_hw359.2.2 k0_h5

def k0_off834 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c100_i32 : BitVec 32 := 100#32
  let v1775 : BitVec 32 := Scalar.addi v74 c100_i32
  let v1776 : Index := Scalar.indexCast v1775
  ![v1776.toNat]
def k0_mult357 (v1777 : BitVec 32) : BitVec 32 :=
  let c3_i32_744 : BitVec 32 := 3#32
  let v1778 : BitVec 32 := Scalar.shrsi v1777 c3_i32_744
  let c8191_i32_745 : BitVec 32 := 8191#32
  let v1779 : BitVec 32 := Scalar.andi v1778 c8191_i32_745
  let c8_i32_746 : BitVec 32 := 8#32
  let v1780 : BitVec 32 := Scalar.muli v1779 c8_i32_746
  v1780

def k0_off835 (v1777 : BitVec 32) : Fin 2 → Nat :=
  let c3_i32_744 : BitVec 32 := 3#32
  let v1778 : BitVec 32 := Scalar.shrsi v1777 c3_i32_744
  let c8191_i32_745 : BitVec 32 := 8191#32
  let v1779 : BitVec 32 := Scalar.andi v1778 c8191_i32_745
  let c8_i32_746 : BitVec 32 := 8#32
  let v1780 : BitVec 32 := Scalar.muli v1779 c8_i32_746
  let v1781 : BitVec 32 := v1780
  let v1782 : Index := Scalar.indexCast v1781
  let c0_747 : Index := 0#32
  ![v1782.toNat, 0]
def k0_off836 (v1777 : BitVec 32) : Fin 2 → Nat :=
  let c3_i32_744 : BitVec 32 := 3#32
  let v1778 : BitVec 32 := Scalar.shrsi v1777 c3_i32_744
  let c8191_i32_745 : BitVec 32 := 8191#32
  let v1779 : BitVec 32 := Scalar.andi v1778 c8191_i32_745
  let v1787 : Index := Scalar.indexCast v1779
  let c0_749 : Index := 0#32
  ![v1787.toNat, 0]

def k0_chk360 (i : grid0.Coords) (v13 : BitVec 32) (v1777 : BitVec 32) : Prop :=
  (∀ (k0_h5 : k0_cond5 i v13 = 1#1), 8 ∣ (k0_mult357 v1777).toNat) ∧
  (∀ (k0_h5 : k0_cond5 i v13 = 1#1), ∀ a, (k0_off835 v1777) a + S8x128.size a ≤ S65536x128.size a) ∧
  (∀ (k0_h5 : k0_cond5 i v13 = 1#1), ∀ a, (k0_off836 v1777) a + S1x128.size a ≤ S8192x128.size a)
theorem k0_mult357_dvd : ∀ (i : grid0.Coords) (v13 : BitVec 32) (v1777 : BitVec 32) (k0_hw360 : k0_chk360 i v13 v1777), ∀ (k0_h5 : k0_cond5 i v13 = 1#1), 8 ∣ (k0_mult357 v1777).toNat := fun i v13 v1777 k0_hw360 k0_h5 => k0_hw360.1 k0_h5
theorem k0_off835_inb : ∀ (i : grid0.Coords) (v13 : BitVec 32) (v1777 : BitVec 32) (k0_hw360 : k0_chk360 i v13 v1777), ∀ (k0_h5 : k0_cond5 i v13 = 1#1), ∀ a, (k0_off835 v1777) a + S8x128.size a ≤ S65536x128.size a := fun i v13 v1777 k0_hw360 k0_h5 => k0_hw360.2.1 k0_h5
theorem k0_off836_inb : ∀ (i : grid0.Coords) (v13 : BitVec 32) (v1777 : BitVec 32) (k0_hw360 : k0_chk360 i v13 v1777), ∀ (k0_h5 : k0_cond5 i v13 = 1#1), ∀ a, (k0_off836 v1777) a + S1x128.size a ≤ S8192x128.size a := fun i v13 v1777 k0_hw360 k0_h5 => k0_hw360.2.2 k0_h5

def k0_off837 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c101_i32 : BitVec 32 := 101#32
  let v1792 : BitVec 32 := Scalar.addi v74 c101_i32
  let v1793 : Index := Scalar.indexCast v1792
  ![v1793.toNat]
def k0_mult358 (v1794 : BitVec 32) : BitVec 32 :=
  let c3_i32_751 : BitVec 32 := 3#32
  let v1795 : BitVec 32 := Scalar.shrsi v1794 c3_i32_751
  let c8191_i32_752 : BitVec 32 := 8191#32
  let v1796 : BitVec 32 := Scalar.andi v1795 c8191_i32_752
  let c8_i32_753 : BitVec 32 := 8#32
  let v1797 : BitVec 32 := Scalar.muli v1796 c8_i32_753
  v1797

def k0_off838 (v1794 : BitVec 32) : Fin 2 → Nat :=
  let c3_i32_751 : BitVec 32 := 3#32
  let v1795 : BitVec 32 := Scalar.shrsi v1794 c3_i32_751
  let c8191_i32_752 : BitVec 32 := 8191#32
  let v1796 : BitVec 32 := Scalar.andi v1795 c8191_i32_752
  let c8_i32_753 : BitVec 32 := 8#32
  let v1797 : BitVec 32 := Scalar.muli v1796 c8_i32_753
  let v1798 : BitVec 32 := v1797
  let v1799 : Index := Scalar.indexCast v1798
  let c0_754 : Index := 0#32
  ![v1799.toNat, 0]
def k0_off839 (v1794 : BitVec 32) : Fin 2 → Nat :=
  let c3_i32_751 : BitVec 32 := 3#32
  let v1795 : BitVec 32 := Scalar.shrsi v1794 c3_i32_751
  let c8191_i32_752 : BitVec 32 := 8191#32
  let v1796 : BitVec 32 := Scalar.andi v1795 c8191_i32_752
  let v1804 : Index := Scalar.indexCast v1796
  let c0_756 : Index := 0#32
  ![v1804.toNat, 0]

def k0_chk361 (i : grid0.Coords) (v13 : BitVec 32) (v1794 : BitVec 32) : Prop :=
  (∀ (k0_h5 : k0_cond5 i v13 = 1#1), 8 ∣ (k0_mult358 v1794).toNat) ∧
  (∀ (k0_h5 : k0_cond5 i v13 = 1#1), ∀ a, (k0_off838 v1794) a + S8x128.size a ≤ S65536x128.size a) ∧
  (∀ (k0_h5 : k0_cond5 i v13 = 1#1), ∀ a, (k0_off839 v1794) a + S1x128.size a ≤ S8192x128.size a)
theorem k0_mult358_dvd : ∀ (i : grid0.Coords) (v13 : BitVec 32) (v1794 : BitVec 32) (k0_hw361 : k0_chk361 i v13 v1794), ∀ (k0_h5 : k0_cond5 i v13 = 1#1), 8 ∣ (k0_mult358 v1794).toNat := fun i v13 v1794 k0_hw361 k0_h5 => k0_hw361.1 k0_h5
theorem k0_off838_inb : ∀ (i : grid0.Coords) (v13 : BitVec 32) (v1794 : BitVec 32) (k0_hw361 : k0_chk361 i v13 v1794), ∀ (k0_h5 : k0_cond5 i v13 = 1#1), ∀ a, (k0_off838 v1794) a + S8x128.size a ≤ S65536x128.size a := fun i v13 v1794 k0_hw361 k0_h5 => k0_hw361.2.1 k0_h5
theorem k0_off839_inb : ∀ (i : grid0.Coords) (v13 : BitVec 32) (v1794 : BitVec 32) (k0_hw361 : k0_chk361 i v13 v1794), ∀ (k0_h5 : k0_cond5 i v13 = 1#1), ∀ a, (k0_off839 v1794) a + S1x128.size a ≤ S8192x128.size a := fun i v13 v1794 k0_hw361 k0_h5 => k0_hw361.2.2 k0_h5

def k0_off840 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c102_i32 : BitVec 32 := 102#32
  let v1809 : BitVec 32 := Scalar.addi v74 c102_i32
  let v1810 : Index := Scalar.indexCast v1809
  ![v1810.toNat]
def k0_mult359 (v1811 : BitVec 32) : BitVec 32 :=
  let c3_i32_758 : BitVec 32 := 3#32
  let v1812 : BitVec 32 := Scalar.shrsi v1811 c3_i32_758
  let c8191_i32_759 : BitVec 32 := 8191#32
  let v1813 : BitVec 32 := Scalar.andi v1812 c8191_i32_759
  let c8_i32_760 : BitVec 32 := 8#32
  let v1814 : BitVec 32 := Scalar.muli v1813 c8_i32_760
  v1814

def k0_off841 (v1811 : BitVec 32) : Fin 2 → Nat :=
  let c3_i32_758 : BitVec 32 := 3#32
  let v1812 : BitVec 32 := Scalar.shrsi v1811 c3_i32_758
  let c8191_i32_759 : BitVec 32 := 8191#32
  let v1813 : BitVec 32 := Scalar.andi v1812 c8191_i32_759
  let c8_i32_760 : BitVec 32 := 8#32
  let v1814 : BitVec 32 := Scalar.muli v1813 c8_i32_760
  let v1815 : BitVec 32 := v1814
  let v1816 : Index := Scalar.indexCast v1815
  let c0_761 : Index := 0#32
  ![v1816.toNat, 0]
def k0_off842 (v1811 : BitVec 32) : Fin 2 → Nat :=
  let c3_i32_758 : BitVec 32 := 3#32
  let v1812 : BitVec 32 := Scalar.shrsi v1811 c3_i32_758
  let c8191_i32_759 : BitVec 32 := 8191#32
  let v1813 : BitVec 32 := Scalar.andi v1812 c8191_i32_759
  let v1821 : Index := Scalar.indexCast v1813
  let c0_763 : Index := 0#32
  ![v1821.toNat, 0]

def k0_chk362 (i : grid0.Coords) (v13 : BitVec 32) (v1811 : BitVec 32) : Prop :=
  (∀ (k0_h5 : k0_cond5 i v13 = 1#1), 8 ∣ (k0_mult359 v1811).toNat) ∧
  (∀ (k0_h5 : k0_cond5 i v13 = 1#1), ∀ a, (k0_off841 v1811) a + S8x128.size a ≤ S65536x128.size a) ∧
  (∀ (k0_h5 : k0_cond5 i v13 = 1#1), ∀ a, (k0_off842 v1811) a + S1x128.size a ≤ S8192x128.size a)
theorem k0_mult359_dvd : ∀ (i : grid0.Coords) (v13 : BitVec 32) (v1811 : BitVec 32) (k0_hw362 : k0_chk362 i v13 v1811), ∀ (k0_h5 : k0_cond5 i v13 = 1#1), 8 ∣ (k0_mult359 v1811).toNat := fun i v13 v1811 k0_hw362 k0_h5 => k0_hw362.1 k0_h5
theorem k0_off841_inb : ∀ (i : grid0.Coords) (v13 : BitVec 32) (v1811 : BitVec 32) (k0_hw362 : k0_chk362 i v13 v1811), ∀ (k0_h5 : k0_cond5 i v13 = 1#1), ∀ a, (k0_off841 v1811) a + S8x128.size a ≤ S65536x128.size a := fun i v13 v1811 k0_hw362 k0_h5 => k0_hw362.2.1 k0_h5
theorem k0_off842_inb : ∀ (i : grid0.Coords) (v13 : BitVec 32) (v1811 : BitVec 32) (k0_hw362 : k0_chk362 i v13 v1811), ∀ (k0_h5 : k0_cond5 i v13 = 1#1), ∀ a, (k0_off842 v1811) a + S1x128.size a ≤ S8192x128.size a := fun i v13 v1811 k0_hw362 k0_h5 => k0_hw362.2.2 k0_h5

def k0_off843 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c103_i32 : BitVec 32 := 103#32
  let v1826 : BitVec 32 := Scalar.addi v74 c103_i32
  let v1827 : Index := Scalar.indexCast v1826
  ![v1827.toNat]
def k0_mult360 (v1828 : BitVec 32) : BitVec 32 :=
  let c3_i32_765 : BitVec 32 := 3#32
  let v1829 : BitVec 32 := Scalar.shrsi v1828 c3_i32_765
  let c8191_i32_766 : BitVec 32 := 8191#32
  let v1830 : BitVec 32 := Scalar.andi v1829 c8191_i32_766
  let c8_i32_767 : BitVec 32 := 8#32
  let v1831 : BitVec 32 := Scalar.muli v1830 c8_i32_767
  v1831

def k0_off844 (v1828 : BitVec 32) : Fin 2 → Nat :=
  let c3_i32_765 : BitVec 32 := 3#32
  let v1829 : BitVec 32 := Scalar.shrsi v1828 c3_i32_765
  let c8191_i32_766 : BitVec 32 := 8191#32
  let v1830 : BitVec 32 := Scalar.andi v1829 c8191_i32_766
  let c8_i32_767 : BitVec 32 := 8#32
  let v1831 : BitVec 32 := Scalar.muli v1830 c8_i32_767
  let v1832 : BitVec 32 := v1831
  let v1833 : Index := Scalar.indexCast v1832
  let c0_768 : Index := 0#32
  ![v1833.toNat, 0]
def k0_off845 (v1828 : BitVec 32) : Fin 2 → Nat :=
  let c3_i32_765 : BitVec 32 := 3#32
  let v1829 : BitVec 32 := Scalar.shrsi v1828 c3_i32_765
  let c8191_i32_766 : BitVec 32 := 8191#32
  let v1830 : BitVec 32 := Scalar.andi v1829 c8191_i32_766
  let v1838 : Index := Scalar.indexCast v1830
  let c0_770 : Index := 0#32
  ![v1838.toNat, 0]

def k0_chk363 (i : grid0.Coords) (v13 : BitVec 32) (v1828 : BitVec 32) : Prop :=
  (∀ (k0_h5 : k0_cond5 i v13 = 1#1), 8 ∣ (k0_mult360 v1828).toNat) ∧
  (∀ (k0_h5 : k0_cond5 i v13 = 1#1), ∀ a, (k0_off844 v1828) a + S8x128.size a ≤ S65536x128.size a) ∧
  (∀ (k0_h5 : k0_cond5 i v13 = 1#1), ∀ a, (k0_off845 v1828) a + S1x128.size a ≤ S8192x128.size a)
theorem k0_mult360_dvd : ∀ (i : grid0.Coords) (v13 : BitVec 32) (v1828 : BitVec 32) (k0_hw363 : k0_chk363 i v13 v1828), ∀ (k0_h5 : k0_cond5 i v13 = 1#1), 8 ∣ (k0_mult360 v1828).toNat := fun i v13 v1828 k0_hw363 k0_h5 => k0_hw363.1 k0_h5
theorem k0_off844_inb : ∀ (i : grid0.Coords) (v13 : BitVec 32) (v1828 : BitVec 32) (k0_hw363 : k0_chk363 i v13 v1828), ∀ (k0_h5 : k0_cond5 i v13 = 1#1), ∀ a, (k0_off844 v1828) a + S8x128.size a ≤ S65536x128.size a := fun i v13 v1828 k0_hw363 k0_h5 => k0_hw363.2.1 k0_h5
theorem k0_off845_inb : ∀ (i : grid0.Coords) (v13 : BitVec 32) (v1828 : BitVec 32) (k0_hw363 : k0_chk363 i v13 v1828), ∀ (k0_h5 : k0_cond5 i v13 = 1#1), ∀ a, (k0_off845 v1828) a + S1x128.size a ≤ S8192x128.size a := fun i v13 v1828 k0_hw363 k0_h5 => k0_hw363.2.2 k0_h5

def k0_off846 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c104_i32 : BitVec 32 := 104#32
  let v1843 : BitVec 32 := Scalar.addi v74 c104_i32
  let v1844 : Index := Scalar.indexCast v1843
  ![v1844.toNat]
def k0_mult361 (v1845 : BitVec 32) : BitVec 32 :=
  let c3_i32_772 : BitVec 32 := 3#32
  let v1846 : BitVec 32 := Scalar.shrsi v1845 c3_i32_772
  let c8191_i32_773 : BitVec 32 := 8191#32
  let v1847 : BitVec 32 := Scalar.andi v1846 c8191_i32_773
  let c8_i32_774 : BitVec 32 := 8#32
  let v1848 : BitVec 32 := Scalar.muli v1847 c8_i32_774
  v1848

def k0_off847 (v1845 : BitVec 32) : Fin 2 → Nat :=
  let c3_i32_772 : BitVec 32 := 3#32
  let v1846 : BitVec 32 := Scalar.shrsi v1845 c3_i32_772
  let c8191_i32_773 : BitVec 32 := 8191#32
  let v1847 : BitVec 32 := Scalar.andi v1846 c8191_i32_773
  let c8_i32_774 : BitVec 32 := 8#32
  let v1848 : BitVec 32 := Scalar.muli v1847 c8_i32_774
  let v1849 : BitVec 32 := v1848
  let v1850 : Index := Scalar.indexCast v1849
  let c0_775 : Index := 0#32
  ![v1850.toNat, 0]
def k0_off848 (v1845 : BitVec 32) : Fin 2 → Nat :=
  let c3_i32_772 : BitVec 32 := 3#32
  let v1846 : BitVec 32 := Scalar.shrsi v1845 c3_i32_772
  let c8191_i32_773 : BitVec 32 := 8191#32
  let v1847 : BitVec 32 := Scalar.andi v1846 c8191_i32_773
  let v1855 : Index := Scalar.indexCast v1847
  let c0_777 : Index := 0#32
  ![v1855.toNat, 0]

def k0_chk364 (i : grid0.Coords) (v13 : BitVec 32) (v1845 : BitVec 32) : Prop :=
  (∀ (k0_h5 : k0_cond5 i v13 = 1#1), 8 ∣ (k0_mult361 v1845).toNat) ∧
  (∀ (k0_h5 : k0_cond5 i v13 = 1#1), ∀ a, (k0_off847 v1845) a + S8x128.size a ≤ S65536x128.size a) ∧
  (∀ (k0_h5 : k0_cond5 i v13 = 1#1), ∀ a, (k0_off848 v1845) a + S1x128.size a ≤ S8192x128.size a)
theorem k0_mult361_dvd : ∀ (i : grid0.Coords) (v13 : BitVec 32) (v1845 : BitVec 32) (k0_hw364 : k0_chk364 i v13 v1845), ∀ (k0_h5 : k0_cond5 i v13 = 1#1), 8 ∣ (k0_mult361 v1845).toNat := fun i v13 v1845 k0_hw364 k0_h5 => k0_hw364.1 k0_h5
theorem k0_off847_inb : ∀ (i : grid0.Coords) (v13 : BitVec 32) (v1845 : BitVec 32) (k0_hw364 : k0_chk364 i v13 v1845), ∀ (k0_h5 : k0_cond5 i v13 = 1#1), ∀ a, (k0_off847 v1845) a + S8x128.size a ≤ S65536x128.size a := fun i v13 v1845 k0_hw364 k0_h5 => k0_hw364.2.1 k0_h5
theorem k0_off848_inb : ∀ (i : grid0.Coords) (v13 : BitVec 32) (v1845 : BitVec 32) (k0_hw364 : k0_chk364 i v13 v1845), ∀ (k0_h5 : k0_cond5 i v13 = 1#1), ∀ a, (k0_off848 v1845) a + S1x128.size a ≤ S8192x128.size a := fun i v13 v1845 k0_hw364 k0_h5 => k0_hw364.2.2 k0_h5

def k0_off849 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c105_i32 : BitVec 32 := 105#32
  let v1860 : BitVec 32 := Scalar.addi v74 c105_i32
  let v1861 : Index := Scalar.indexCast v1860
  ![v1861.toNat]
def k0_mult362 (v1862 : BitVec 32) : BitVec 32 :=
  let c3_i32_780 : BitVec 32 := 3#32
  let v1863 : BitVec 32 := Scalar.shrsi v1862 c3_i32_780
  let c8191_i32_781 : BitVec 32 := 8191#32
  let v1864 : BitVec 32 := Scalar.andi v1863 c8191_i32_781
  let c8_i32_782 : BitVec 32 := 8#32
  let v1865 : BitVec 32 := Scalar.muli v1864 c8_i32_782
  v1865

def k0_off850 (v1862 : BitVec 32) : Fin 2 → Nat :=
  let c3_i32_780 : BitVec 32 := 3#32
  let v1863 : BitVec 32 := Scalar.shrsi v1862 c3_i32_780
  let c8191_i32_781 : BitVec 32 := 8191#32
  let v1864 : BitVec 32 := Scalar.andi v1863 c8191_i32_781
  let c8_i32_782 : BitVec 32 := 8#32
  let v1865 : BitVec 32 := Scalar.muli v1864 c8_i32_782
  let v1866 : BitVec 32 := v1865
  let v1867 : Index := Scalar.indexCast v1866
  let c0_783 : Index := 0#32
  ![v1867.toNat, 0]
def k0_off851 (v1862 : BitVec 32) : Fin 2 → Nat :=
  let c3_i32_780 : BitVec 32 := 3#32
  let v1863 : BitVec 32 := Scalar.shrsi v1862 c3_i32_780
  let c8191_i32_781 : BitVec 32 := 8191#32
  let v1864 : BitVec 32 := Scalar.andi v1863 c8191_i32_781
  let v1872 : Index := Scalar.indexCast v1864
  let c0_785 : Index := 0#32
  ![v1872.toNat, 0]

def k0_chk365 (i : grid0.Coords) (v13 : BitVec 32) (v1862 : BitVec 32) : Prop :=
  (∀ (k0_h5 : k0_cond5 i v13 = 1#1), 8 ∣ (k0_mult362 v1862).toNat) ∧
  (∀ (k0_h5 : k0_cond5 i v13 = 1#1), ∀ a, (k0_off850 v1862) a + S8x128.size a ≤ S65536x128.size a) ∧
  (∀ (k0_h5 : k0_cond5 i v13 = 1#1), ∀ a, (k0_off851 v1862) a + S1x128.size a ≤ S8192x128.size a)
theorem k0_mult362_dvd : ∀ (i : grid0.Coords) (v13 : BitVec 32) (v1862 : BitVec 32) (k0_hw365 : k0_chk365 i v13 v1862), ∀ (k0_h5 : k0_cond5 i v13 = 1#1), 8 ∣ (k0_mult362 v1862).toNat := fun i v13 v1862 k0_hw365 k0_h5 => k0_hw365.1 k0_h5
theorem k0_off850_inb : ∀ (i : grid0.Coords) (v13 : BitVec 32) (v1862 : BitVec 32) (k0_hw365 : k0_chk365 i v13 v1862), ∀ (k0_h5 : k0_cond5 i v13 = 1#1), ∀ a, (k0_off850 v1862) a + S8x128.size a ≤ S65536x128.size a := fun i v13 v1862 k0_hw365 k0_h5 => k0_hw365.2.1 k0_h5
theorem k0_off851_inb : ∀ (i : grid0.Coords) (v13 : BitVec 32) (v1862 : BitVec 32) (k0_hw365 : k0_chk365 i v13 v1862), ∀ (k0_h5 : k0_cond5 i v13 = 1#1), ∀ a, (k0_off851 v1862) a + S1x128.size a ≤ S8192x128.size a := fun i v13 v1862 k0_hw365 k0_h5 => k0_hw365.2.2 k0_h5

def k0_off852 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c106_i32 : BitVec 32 := 106#32
  let v1877 : BitVec 32 := Scalar.addi v74 c106_i32
  let v1878 : Index := Scalar.indexCast v1877
  ![v1878.toNat]
def k0_mult363 (v1879 : BitVec 32) : BitVec 32 :=
  let c3_i32_787 : BitVec 32 := 3#32
  let v1880 : BitVec 32 := Scalar.shrsi v1879 c3_i32_787
  let c8191_i32_788 : BitVec 32 := 8191#32
  let v1881 : BitVec 32 := Scalar.andi v1880 c8191_i32_788
  let c8_i32_789 : BitVec 32 := 8#32
  let v1882 : BitVec 32 := Scalar.muli v1881 c8_i32_789
  v1882

def k0_off853 (v1879 : BitVec 32) : Fin 2 → Nat :=
  let c3_i32_787 : BitVec 32 := 3#32
  let v1880 : BitVec 32 := Scalar.shrsi v1879 c3_i32_787
  let c8191_i32_788 : BitVec 32 := 8191#32
  let v1881 : BitVec 32 := Scalar.andi v1880 c8191_i32_788
  let c8_i32_789 : BitVec 32 := 8#32
  let v1882 : BitVec 32 := Scalar.muli v1881 c8_i32_789
  let v1883 : BitVec 32 := v1882
  let v1884 : Index := Scalar.indexCast v1883
  let c0_790 : Index := 0#32
  ![v1884.toNat, 0]
def k0_off854 (v1879 : BitVec 32) : Fin 2 → Nat :=
  let c3_i32_787 : BitVec 32 := 3#32
  let v1880 : BitVec 32 := Scalar.shrsi v1879 c3_i32_787
  let c8191_i32_788 : BitVec 32 := 8191#32
  let v1881 : BitVec 32 := Scalar.andi v1880 c8191_i32_788
  let v1889 : Index := Scalar.indexCast v1881
  let c0_792 : Index := 0#32
  ![v1889.toNat, 0]

def k0_chk366 (i : grid0.Coords) (v13 : BitVec 32) (v1879 : BitVec 32) : Prop :=
  (∀ (k0_h5 : k0_cond5 i v13 = 1#1), 8 ∣ (k0_mult363 v1879).toNat) ∧
  (∀ (k0_h5 : k0_cond5 i v13 = 1#1), ∀ a, (k0_off853 v1879) a + S8x128.size a ≤ S65536x128.size a) ∧
  (∀ (k0_h5 : k0_cond5 i v13 = 1#1), ∀ a, (k0_off854 v1879) a + S1x128.size a ≤ S8192x128.size a)
theorem k0_mult363_dvd : ∀ (i : grid0.Coords) (v13 : BitVec 32) (v1879 : BitVec 32) (k0_hw366 : k0_chk366 i v13 v1879), ∀ (k0_h5 : k0_cond5 i v13 = 1#1), 8 ∣ (k0_mult363 v1879).toNat := fun i v13 v1879 k0_hw366 k0_h5 => k0_hw366.1 k0_h5
theorem k0_off853_inb : ∀ (i : grid0.Coords) (v13 : BitVec 32) (v1879 : BitVec 32) (k0_hw366 : k0_chk366 i v13 v1879), ∀ (k0_h5 : k0_cond5 i v13 = 1#1), ∀ a, (k0_off853 v1879) a + S8x128.size a ≤ S65536x128.size a := fun i v13 v1879 k0_hw366 k0_h5 => k0_hw366.2.1 k0_h5
theorem k0_off854_inb : ∀ (i : grid0.Coords) (v13 : BitVec 32) (v1879 : BitVec 32) (k0_hw366 : k0_chk366 i v13 v1879), ∀ (k0_h5 : k0_cond5 i v13 = 1#1), ∀ a, (k0_off854 v1879) a + S1x128.size a ≤ S8192x128.size a := fun i v13 v1879 k0_hw366 k0_h5 => k0_hw366.2.2 k0_h5

def k0_off855 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c107_i32 : BitVec 32 := 107#32
  let v1894 : BitVec 32 := Scalar.addi v74 c107_i32
  let v1895 : Index := Scalar.indexCast v1894
  ![v1895.toNat]
def k0_mult364 (v1896 : BitVec 32) : BitVec 32 :=
  let c3_i32_794 : BitVec 32 := 3#32
  let v1897 : BitVec 32 := Scalar.shrsi v1896 c3_i32_794
  let c8191_i32_795 : BitVec 32 := 8191#32
  let v1898 : BitVec 32 := Scalar.andi v1897 c8191_i32_795
  let c8_i32_796 : BitVec 32 := 8#32
  let v1899 : BitVec 32 := Scalar.muli v1898 c8_i32_796
  v1899

def k0_off856 (v1896 : BitVec 32) : Fin 2 → Nat :=
  let c3_i32_794 : BitVec 32 := 3#32
  let v1897 : BitVec 32 := Scalar.shrsi v1896 c3_i32_794
  let c8191_i32_795 : BitVec 32 := 8191#32
  let v1898 : BitVec 32 := Scalar.andi v1897 c8191_i32_795
  let c8_i32_796 : BitVec 32 := 8#32
  let v1899 : BitVec 32 := Scalar.muli v1898 c8_i32_796
  let v1900 : BitVec 32 := v1899
  let v1901 : Index := Scalar.indexCast v1900
  let c0_797 : Index := 0#32
  ![v1901.toNat, 0]
def k0_off857 (v1896 : BitVec 32) : Fin 2 → Nat :=
  let c3_i32_794 : BitVec 32 := 3#32
  let v1897 : BitVec 32 := Scalar.shrsi v1896 c3_i32_794
  let c8191_i32_795 : BitVec 32 := 8191#32
  let v1898 : BitVec 32 := Scalar.andi v1897 c8191_i32_795
  let v1906 : Index := Scalar.indexCast v1898
  let c0_799 : Index := 0#32
  ![v1906.toNat, 0]

def k0_chk367 (i : grid0.Coords) (v13 : BitVec 32) (v1896 : BitVec 32) : Prop :=
  (∀ (k0_h5 : k0_cond5 i v13 = 1#1), 8 ∣ (k0_mult364 v1896).toNat) ∧
  (∀ (k0_h5 : k0_cond5 i v13 = 1#1), ∀ a, (k0_off856 v1896) a + S8x128.size a ≤ S65536x128.size a) ∧
  (∀ (k0_h5 : k0_cond5 i v13 = 1#1), ∀ a, (k0_off857 v1896) a + S1x128.size a ≤ S8192x128.size a)
theorem k0_mult364_dvd : ∀ (i : grid0.Coords) (v13 : BitVec 32) (v1896 : BitVec 32) (k0_hw367 : k0_chk367 i v13 v1896), ∀ (k0_h5 : k0_cond5 i v13 = 1#1), 8 ∣ (k0_mult364 v1896).toNat := fun i v13 v1896 k0_hw367 k0_h5 => k0_hw367.1 k0_h5
theorem k0_off856_inb : ∀ (i : grid0.Coords) (v13 : BitVec 32) (v1896 : BitVec 32) (k0_hw367 : k0_chk367 i v13 v1896), ∀ (k0_h5 : k0_cond5 i v13 = 1#1), ∀ a, (k0_off856 v1896) a + S8x128.size a ≤ S65536x128.size a := fun i v13 v1896 k0_hw367 k0_h5 => k0_hw367.2.1 k0_h5
theorem k0_off857_inb : ∀ (i : grid0.Coords) (v13 : BitVec 32) (v1896 : BitVec 32) (k0_hw367 : k0_chk367 i v13 v1896), ∀ (k0_h5 : k0_cond5 i v13 = 1#1), ∀ a, (k0_off857 v1896) a + S1x128.size a ≤ S8192x128.size a := fun i v13 v1896 k0_hw367 k0_h5 => k0_hw367.2.2 k0_h5

def k0_off858 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c108_i32 : BitVec 32 := 108#32
  let v1911 : BitVec 32 := Scalar.addi v74 c108_i32
  let v1912 : Index := Scalar.indexCast v1911
  ![v1912.toNat]
def k0_mult365 (v1913 : BitVec 32) : BitVec 32 :=
  let c3_i32_801 : BitVec 32 := 3#32
  let v1914 : BitVec 32 := Scalar.shrsi v1913 c3_i32_801
  let c8191_i32_802 : BitVec 32 := 8191#32
  let v1915 : BitVec 32 := Scalar.andi v1914 c8191_i32_802
  let c8_i32_803 : BitVec 32 := 8#32
  let v1916 : BitVec 32 := Scalar.muli v1915 c8_i32_803
  v1916

def k0_off859 (v1913 : BitVec 32) : Fin 2 → Nat :=
  let c3_i32_801 : BitVec 32 := 3#32
  let v1914 : BitVec 32 := Scalar.shrsi v1913 c3_i32_801
  let c8191_i32_802 : BitVec 32 := 8191#32
  let v1915 : BitVec 32 := Scalar.andi v1914 c8191_i32_802
  let c8_i32_803 : BitVec 32 := 8#32
  let v1916 : BitVec 32 := Scalar.muli v1915 c8_i32_803
  let v1917 : BitVec 32 := v1916
  let v1918 : Index := Scalar.indexCast v1917
  let c0_804 : Index := 0#32
  ![v1918.toNat, 0]
def k0_off860 (v1913 : BitVec 32) : Fin 2 → Nat :=
  let c3_i32_801 : BitVec 32 := 3#32
  let v1914 : BitVec 32 := Scalar.shrsi v1913 c3_i32_801
  let c8191_i32_802 : BitVec 32 := 8191#32
  let v1915 : BitVec 32 := Scalar.andi v1914 c8191_i32_802
  let v1923 : Index := Scalar.indexCast v1915
  let c0_806 : Index := 0#32
  ![v1923.toNat, 0]

def k0_chk368 (i : grid0.Coords) (v13 : BitVec 32) (v1913 : BitVec 32) : Prop :=
  (∀ (k0_h5 : k0_cond5 i v13 = 1#1), 8 ∣ (k0_mult365 v1913).toNat) ∧
  (∀ (k0_h5 : k0_cond5 i v13 = 1#1), ∀ a, (k0_off859 v1913) a + S8x128.size a ≤ S65536x128.size a) ∧
  (∀ (k0_h5 : k0_cond5 i v13 = 1#1), ∀ a, (k0_off860 v1913) a + S1x128.size a ≤ S8192x128.size a)
theorem k0_mult365_dvd : ∀ (i : grid0.Coords) (v13 : BitVec 32) (v1913 : BitVec 32) (k0_hw368 : k0_chk368 i v13 v1913), ∀ (k0_h5 : k0_cond5 i v13 = 1#1), 8 ∣ (k0_mult365 v1913).toNat := fun i v13 v1913 k0_hw368 k0_h5 => k0_hw368.1 k0_h5
theorem k0_off859_inb : ∀ (i : grid0.Coords) (v13 : BitVec 32) (v1913 : BitVec 32) (k0_hw368 : k0_chk368 i v13 v1913), ∀ (k0_h5 : k0_cond5 i v13 = 1#1), ∀ a, (k0_off859 v1913) a + S8x128.size a ≤ S65536x128.size a := fun i v13 v1913 k0_hw368 k0_h5 => k0_hw368.2.1 k0_h5
theorem k0_off860_inb : ∀ (i : grid0.Coords) (v13 : BitVec 32) (v1913 : BitVec 32) (k0_hw368 : k0_chk368 i v13 v1913), ∀ (k0_h5 : k0_cond5 i v13 = 1#1), ∀ a, (k0_off860 v1913) a + S1x128.size a ≤ S8192x128.size a := fun i v13 v1913 k0_hw368 k0_h5 => k0_hw368.2.2 k0_h5

def k0_off861 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c109_i32 : BitVec 32 := 109#32
  let v1928 : BitVec 32 := Scalar.addi v74 c109_i32
  let v1929 : Index := Scalar.indexCast v1928
  ![v1929.toNat]
def k0_mult366 (v1930 : BitVec 32) : BitVec 32 :=
  let c3_i32_808 : BitVec 32 := 3#32
  let v1931 : BitVec 32 := Scalar.shrsi v1930 c3_i32_808
  let c8191_i32_809 : BitVec 32 := 8191#32
  let v1932 : BitVec 32 := Scalar.andi v1931 c8191_i32_809
  let c8_i32_810 : BitVec 32 := 8#32
  let v1933 : BitVec 32 := Scalar.muli v1932 c8_i32_810
  v1933

def k0_off862 (v1930 : BitVec 32) : Fin 2 → Nat :=
  let c3_i32_808 : BitVec 32 := 3#32
  let v1931 : BitVec 32 := Scalar.shrsi v1930 c3_i32_808
  let c8191_i32_809 : BitVec 32 := 8191#32
  let v1932 : BitVec 32 := Scalar.andi v1931 c8191_i32_809
  let c8_i32_810 : BitVec 32 := 8#32
  let v1933 : BitVec 32 := Scalar.muli v1932 c8_i32_810
  let v1934 : BitVec 32 := v1933
  let v1935 : Index := Scalar.indexCast v1934
  let c0_811 : Index := 0#32
  ![v1935.toNat, 0]
def k0_off863 (v1930 : BitVec 32) : Fin 2 → Nat :=
  let c3_i32_808 : BitVec 32 := 3#32
  let v1931 : BitVec 32 := Scalar.shrsi v1930 c3_i32_808
  let c8191_i32_809 : BitVec 32 := 8191#32
  let v1932 : BitVec 32 := Scalar.andi v1931 c8191_i32_809
  let v1940 : Index := Scalar.indexCast v1932
  let c0_813 : Index := 0#32
  ![v1940.toNat, 0]

def k0_chk369 (i : grid0.Coords) (v13 : BitVec 32) (v1930 : BitVec 32) : Prop :=
  (∀ (k0_h5 : k0_cond5 i v13 = 1#1), 8 ∣ (k0_mult366 v1930).toNat) ∧
  (∀ (k0_h5 : k0_cond5 i v13 = 1#1), ∀ a, (k0_off862 v1930) a + S8x128.size a ≤ S65536x128.size a) ∧
  (∀ (k0_h5 : k0_cond5 i v13 = 1#1), ∀ a, (k0_off863 v1930) a + S1x128.size a ≤ S8192x128.size a)
theorem k0_mult366_dvd : ∀ (i : grid0.Coords) (v13 : BitVec 32) (v1930 : BitVec 32) (k0_hw369 : k0_chk369 i v13 v1930), ∀ (k0_h5 : k0_cond5 i v13 = 1#1), 8 ∣ (k0_mult366 v1930).toNat := fun i v13 v1930 k0_hw369 k0_h5 => k0_hw369.1 k0_h5
theorem k0_off862_inb : ∀ (i : grid0.Coords) (v13 : BitVec 32) (v1930 : BitVec 32) (k0_hw369 : k0_chk369 i v13 v1930), ∀ (k0_h5 : k0_cond5 i v13 = 1#1), ∀ a, (k0_off862 v1930) a + S8x128.size a ≤ S65536x128.size a := fun i v13 v1930 k0_hw369 k0_h5 => k0_hw369.2.1 k0_h5
theorem k0_off863_inb : ∀ (i : grid0.Coords) (v13 : BitVec 32) (v1930 : BitVec 32) (k0_hw369 : k0_chk369 i v13 v1930), ∀ (k0_h5 : k0_cond5 i v13 = 1#1), ∀ a, (k0_off863 v1930) a + S1x128.size a ≤ S8192x128.size a := fun i v13 v1930 k0_hw369 k0_h5 => k0_hw369.2.2 k0_h5

def k0_off864 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c110_i32 : BitVec 32 := 110#32
  let v1945 : BitVec 32 := Scalar.addi v74 c110_i32
  let v1946 : Index := Scalar.indexCast v1945
  ![v1946.toNat]
def k0_mult367 (v1947 : BitVec 32) : BitVec 32 :=
  let c3_i32_815 : BitVec 32 := 3#32
  let v1948 : BitVec 32 := Scalar.shrsi v1947 c3_i32_815
  let c8191_i32_816 : BitVec 32 := 8191#32
  let v1949 : BitVec 32 := Scalar.andi v1948 c8191_i32_816
  let c8_i32_817 : BitVec 32 := 8#32
  let v1950 : BitVec 32 := Scalar.muli v1949 c8_i32_817
  v1950

def k0_off865 (v1947 : BitVec 32) : Fin 2 → Nat :=
  let c3_i32_815 : BitVec 32 := 3#32
  let v1948 : BitVec 32 := Scalar.shrsi v1947 c3_i32_815
  let c8191_i32_816 : BitVec 32 := 8191#32
  let v1949 : BitVec 32 := Scalar.andi v1948 c8191_i32_816
  let c8_i32_817 : BitVec 32 := 8#32
  let v1950 : BitVec 32 := Scalar.muli v1949 c8_i32_817
  let v1951 : BitVec 32 := v1950
  let v1952 : Index := Scalar.indexCast v1951
  let c0_818 : Index := 0#32
  ![v1952.toNat, 0]
def k0_off866 (v1947 : BitVec 32) : Fin 2 → Nat :=
  let c3_i32_815 : BitVec 32 := 3#32
  let v1948 : BitVec 32 := Scalar.shrsi v1947 c3_i32_815
  let c8191_i32_816 : BitVec 32 := 8191#32
  let v1949 : BitVec 32 := Scalar.andi v1948 c8191_i32_816
  let v1957 : Index := Scalar.indexCast v1949
  let c0_820 : Index := 0#32
  ![v1957.toNat, 0]

def k0_chk370 (i : grid0.Coords) (v13 : BitVec 32) (v1947 : BitVec 32) : Prop :=
  (∀ (k0_h5 : k0_cond5 i v13 = 1#1), 8 ∣ (k0_mult367 v1947).toNat) ∧
  (∀ (k0_h5 : k0_cond5 i v13 = 1#1), ∀ a, (k0_off865 v1947) a + S8x128.size a ≤ S65536x128.size a) ∧
  (∀ (k0_h5 : k0_cond5 i v13 = 1#1), ∀ a, (k0_off866 v1947) a + S1x128.size a ≤ S8192x128.size a)
theorem k0_mult367_dvd : ∀ (i : grid0.Coords) (v13 : BitVec 32) (v1947 : BitVec 32) (k0_hw370 : k0_chk370 i v13 v1947), ∀ (k0_h5 : k0_cond5 i v13 = 1#1), 8 ∣ (k0_mult367 v1947).toNat := fun i v13 v1947 k0_hw370 k0_h5 => k0_hw370.1 k0_h5
theorem k0_off865_inb : ∀ (i : grid0.Coords) (v13 : BitVec 32) (v1947 : BitVec 32) (k0_hw370 : k0_chk370 i v13 v1947), ∀ (k0_h5 : k0_cond5 i v13 = 1#1), ∀ a, (k0_off865 v1947) a + S8x128.size a ≤ S65536x128.size a := fun i v13 v1947 k0_hw370 k0_h5 => k0_hw370.2.1 k0_h5
theorem k0_off866_inb : ∀ (i : grid0.Coords) (v13 : BitVec 32) (v1947 : BitVec 32) (k0_hw370 : k0_chk370 i v13 v1947), ∀ (k0_h5 : k0_cond5 i v13 = 1#1), ∀ a, (k0_off866 v1947) a + S1x128.size a ≤ S8192x128.size a := fun i v13 v1947 k0_hw370 k0_h5 => k0_hw370.2.2 k0_h5

def k0_off867 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c111_i32 : BitVec 32 := 111#32
  let v1962 : BitVec 32 := Scalar.addi v74 c111_i32
  let v1963 : Index := Scalar.indexCast v1962
  ![v1963.toNat]
def k0_mult368 (v1964 : BitVec 32) : BitVec 32 :=
  let c3_i32_822 : BitVec 32 := 3#32
  let v1965 : BitVec 32 := Scalar.shrsi v1964 c3_i32_822
  let c8191_i32_823 : BitVec 32 := 8191#32
  let v1966 : BitVec 32 := Scalar.andi v1965 c8191_i32_823
  let c8_i32_824 : BitVec 32 := 8#32
  let v1967 : BitVec 32 := Scalar.muli v1966 c8_i32_824
  v1967

def k0_off868 (v1964 : BitVec 32) : Fin 2 → Nat :=
  let c3_i32_822 : BitVec 32 := 3#32
  let v1965 : BitVec 32 := Scalar.shrsi v1964 c3_i32_822
  let c8191_i32_823 : BitVec 32 := 8191#32
  let v1966 : BitVec 32 := Scalar.andi v1965 c8191_i32_823
  let c8_i32_824 : BitVec 32 := 8#32
  let v1967 : BitVec 32 := Scalar.muli v1966 c8_i32_824
  let v1968 : BitVec 32 := v1967
  let v1969 : Index := Scalar.indexCast v1968
  let c0_825 : Index := 0#32
  ![v1969.toNat, 0]
def k0_off869 (v1964 : BitVec 32) : Fin 2 → Nat :=
  let c3_i32_822 : BitVec 32 := 3#32
  let v1965 : BitVec 32 := Scalar.shrsi v1964 c3_i32_822
  let c8191_i32_823 : BitVec 32 := 8191#32
  let v1966 : BitVec 32 := Scalar.andi v1965 c8191_i32_823
  let v1974 : Index := Scalar.indexCast v1966
  let c0_827 : Index := 0#32
  ![v1974.toNat, 0]

def k0_chk371 (i : grid0.Coords) (v13 : BitVec 32) (v1964 : BitVec 32) : Prop :=
  (∀ (k0_h5 : k0_cond5 i v13 = 1#1), 8 ∣ (k0_mult368 v1964).toNat) ∧
  (∀ (k0_h5 : k0_cond5 i v13 = 1#1), ∀ a, (k0_off868 v1964) a + S8x128.size a ≤ S65536x128.size a) ∧
  (∀ (k0_h5 : k0_cond5 i v13 = 1#1), ∀ a, (k0_off869 v1964) a + S1x128.size a ≤ S8192x128.size a)
theorem k0_mult368_dvd : ∀ (i : grid0.Coords) (v13 : BitVec 32) (v1964 : BitVec 32) (k0_hw371 : k0_chk371 i v13 v1964), ∀ (k0_h5 : k0_cond5 i v13 = 1#1), 8 ∣ (k0_mult368 v1964).toNat := fun i v13 v1964 k0_hw371 k0_h5 => k0_hw371.1 k0_h5
theorem k0_off868_inb : ∀ (i : grid0.Coords) (v13 : BitVec 32) (v1964 : BitVec 32) (k0_hw371 : k0_chk371 i v13 v1964), ∀ (k0_h5 : k0_cond5 i v13 = 1#1), ∀ a, (k0_off868 v1964) a + S8x128.size a ≤ S65536x128.size a := fun i v13 v1964 k0_hw371 k0_h5 => k0_hw371.2.1 k0_h5
theorem k0_off869_inb : ∀ (i : grid0.Coords) (v13 : BitVec 32) (v1964 : BitVec 32) (k0_hw371 : k0_chk371 i v13 v1964), ∀ (k0_h5 : k0_cond5 i v13 = 1#1), ∀ a, (k0_off869 v1964) a + S1x128.size a ≤ S8192x128.size a := fun i v13 v1964 k0_hw371 k0_h5 => k0_hw371.2.2 k0_h5

def k0_off870 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c112_i32 : BitVec 32 := 112#32
  let v1979 : BitVec 32 := Scalar.addi v74 c112_i32
  let v1980 : Index := Scalar.indexCast v1979
  ![v1980.toNat]
def k0_mult369 (v1981 : BitVec 32) : BitVec 32 :=
  let c3_i32_829 : BitVec 32 := 3#32
  let v1982 : BitVec 32 := Scalar.shrsi v1981 c3_i32_829
  let c8191_i32_830 : BitVec 32 := 8191#32
  let v1983 : BitVec 32 := Scalar.andi v1982 c8191_i32_830
  let c8_i32_831 : BitVec 32 := 8#32
  let v1984 : BitVec 32 := Scalar.muli v1983 c8_i32_831
  v1984

def k0_off871 (v1981 : BitVec 32) : Fin 2 → Nat :=
  let c3_i32_829 : BitVec 32 := 3#32
  let v1982 : BitVec 32 := Scalar.shrsi v1981 c3_i32_829
  let c8191_i32_830 : BitVec 32 := 8191#32
  let v1983 : BitVec 32 := Scalar.andi v1982 c8191_i32_830
  let c8_i32_831 : BitVec 32 := 8#32
  let v1984 : BitVec 32 := Scalar.muli v1983 c8_i32_831
  let v1985 : BitVec 32 := v1984
  let v1986 : Index := Scalar.indexCast v1985
  let c0_832 : Index := 0#32
  ![v1986.toNat, 0]
def k0_off872 (v1981 : BitVec 32) : Fin 2 → Nat :=
  let c3_i32_829 : BitVec 32 := 3#32
  let v1982 : BitVec 32 := Scalar.shrsi v1981 c3_i32_829
  let c8191_i32_830 : BitVec 32 := 8191#32
  let v1983 : BitVec 32 := Scalar.andi v1982 c8191_i32_830
  let v1991 : Index := Scalar.indexCast v1983
  let c0_834 : Index := 0#32
  ![v1991.toNat, 0]

def k0_chk372 (i : grid0.Coords) (v13 : BitVec 32) (v1981 : BitVec 32) : Prop :=
  (∀ (k0_h5 : k0_cond5 i v13 = 1#1), 8 ∣ (k0_mult369 v1981).toNat) ∧
  (∀ (k0_h5 : k0_cond5 i v13 = 1#1), ∀ a, (k0_off871 v1981) a + S8x128.size a ≤ S65536x128.size a) ∧
  (∀ (k0_h5 : k0_cond5 i v13 = 1#1), ∀ a, (k0_off872 v1981) a + S1x128.size a ≤ S8192x128.size a)
theorem k0_mult369_dvd : ∀ (i : grid0.Coords) (v13 : BitVec 32) (v1981 : BitVec 32) (k0_hw372 : k0_chk372 i v13 v1981), ∀ (k0_h5 : k0_cond5 i v13 = 1#1), 8 ∣ (k0_mult369 v1981).toNat := fun i v13 v1981 k0_hw372 k0_h5 => k0_hw372.1 k0_h5
theorem k0_off871_inb : ∀ (i : grid0.Coords) (v13 : BitVec 32) (v1981 : BitVec 32) (k0_hw372 : k0_chk372 i v13 v1981), ∀ (k0_h5 : k0_cond5 i v13 = 1#1), ∀ a, (k0_off871 v1981) a + S8x128.size a ≤ S65536x128.size a := fun i v13 v1981 k0_hw372 k0_h5 => k0_hw372.2.1 k0_h5
theorem k0_off872_inb : ∀ (i : grid0.Coords) (v13 : BitVec 32) (v1981 : BitVec 32) (k0_hw372 : k0_chk372 i v13 v1981), ∀ (k0_h5 : k0_cond5 i v13 = 1#1), ∀ a, (k0_off872 v1981) a + S1x128.size a ≤ S8192x128.size a := fun i v13 v1981 k0_hw372 k0_h5 => k0_hw372.2.2 k0_h5

def k0_off873 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c113_i32 : BitVec 32 := 113#32
  let v1996 : BitVec 32 := Scalar.addi v74 c113_i32
  let v1997 : Index := Scalar.indexCast v1996
  ![v1997.toNat]
def k0_mult370 (v1998 : BitVec 32) : BitVec 32 :=
  let c3_i32_837 : BitVec 32 := 3#32
  let v1999 : BitVec 32 := Scalar.shrsi v1998 c3_i32_837
  let c8191_i32_838 : BitVec 32 := 8191#32
  let v2000 : BitVec 32 := Scalar.andi v1999 c8191_i32_838
  let c8_i32_839 : BitVec 32 := 8#32
  let v2001 : BitVec 32 := Scalar.muli v2000 c8_i32_839
  v2001

def k0_off874 (v1998 : BitVec 32) : Fin 2 → Nat :=
  let c3_i32_837 : BitVec 32 := 3#32
  let v1999 : BitVec 32 := Scalar.shrsi v1998 c3_i32_837
  let c8191_i32_838 : BitVec 32 := 8191#32
  let v2000 : BitVec 32 := Scalar.andi v1999 c8191_i32_838
  let c8_i32_839 : BitVec 32 := 8#32
  let v2001 : BitVec 32 := Scalar.muli v2000 c8_i32_839
  let v2002 : BitVec 32 := v2001
  let v2003 : Index := Scalar.indexCast v2002
  let c0_840 : Index := 0#32
  ![v2003.toNat, 0]
def k0_off875 (v1998 : BitVec 32) : Fin 2 → Nat :=
  let c3_i32_837 : BitVec 32 := 3#32
  let v1999 : BitVec 32 := Scalar.shrsi v1998 c3_i32_837
  let c8191_i32_838 : BitVec 32 := 8191#32
  let v2000 : BitVec 32 := Scalar.andi v1999 c8191_i32_838
  let v2008 : Index := Scalar.indexCast v2000
  let c0_842 : Index := 0#32
  ![v2008.toNat, 0]

def k0_chk373 (i : grid0.Coords) (v13 : BitVec 32) (v1998 : BitVec 32) : Prop :=
  (∀ (k0_h5 : k0_cond5 i v13 = 1#1), 8 ∣ (k0_mult370 v1998).toNat) ∧
  (∀ (k0_h5 : k0_cond5 i v13 = 1#1), ∀ a, (k0_off874 v1998) a + S8x128.size a ≤ S65536x128.size a) ∧
  (∀ (k0_h5 : k0_cond5 i v13 = 1#1), ∀ a, (k0_off875 v1998) a + S1x128.size a ≤ S8192x128.size a)
theorem k0_mult370_dvd : ∀ (i : grid0.Coords) (v13 : BitVec 32) (v1998 : BitVec 32) (k0_hw373 : k0_chk373 i v13 v1998), ∀ (k0_h5 : k0_cond5 i v13 = 1#1), 8 ∣ (k0_mult370 v1998).toNat := fun i v13 v1998 k0_hw373 k0_h5 => k0_hw373.1 k0_h5
theorem k0_off874_inb : ∀ (i : grid0.Coords) (v13 : BitVec 32) (v1998 : BitVec 32) (k0_hw373 : k0_chk373 i v13 v1998), ∀ (k0_h5 : k0_cond5 i v13 = 1#1), ∀ a, (k0_off874 v1998) a + S8x128.size a ≤ S65536x128.size a := fun i v13 v1998 k0_hw373 k0_h5 => k0_hw373.2.1 k0_h5
theorem k0_off875_inb : ∀ (i : grid0.Coords) (v13 : BitVec 32) (v1998 : BitVec 32) (k0_hw373 : k0_chk373 i v13 v1998), ∀ (k0_h5 : k0_cond5 i v13 = 1#1), ∀ a, (k0_off875 v1998) a + S1x128.size a ≤ S8192x128.size a := fun i v13 v1998 k0_hw373 k0_h5 => k0_hw373.2.2 k0_h5

def k0_off876 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c114_i32 : BitVec 32 := 114#32
  let v2013 : BitVec 32 := Scalar.addi v74 c114_i32
  let v2014 : Index := Scalar.indexCast v2013
  ![v2014.toNat]
def k0_mult371 (v2015 : BitVec 32) : BitVec 32 :=
  let c3_i32_844 : BitVec 32 := 3#32
  let v2016 : BitVec 32 := Scalar.shrsi v2015 c3_i32_844
  let c8191_i32_845 : BitVec 32 := 8191#32
  let v2017 : BitVec 32 := Scalar.andi v2016 c8191_i32_845
  let c8_i32_846 : BitVec 32 := 8#32
  let v2018 : BitVec 32 := Scalar.muli v2017 c8_i32_846
  v2018

def k0_off877 (v2015 : BitVec 32) : Fin 2 → Nat :=
  let c3_i32_844 : BitVec 32 := 3#32
  let v2016 : BitVec 32 := Scalar.shrsi v2015 c3_i32_844
  let c8191_i32_845 : BitVec 32 := 8191#32
  let v2017 : BitVec 32 := Scalar.andi v2016 c8191_i32_845
  let c8_i32_846 : BitVec 32 := 8#32
  let v2018 : BitVec 32 := Scalar.muli v2017 c8_i32_846
  let v2019 : BitVec 32 := v2018
  let v2020 : Index := Scalar.indexCast v2019
  let c0_847 : Index := 0#32
  ![v2020.toNat, 0]
def k0_off878 (v2015 : BitVec 32) : Fin 2 → Nat :=
  let c3_i32_844 : BitVec 32 := 3#32
  let v2016 : BitVec 32 := Scalar.shrsi v2015 c3_i32_844
  let c8191_i32_845 : BitVec 32 := 8191#32
  let v2017 : BitVec 32 := Scalar.andi v2016 c8191_i32_845
  let v2025 : Index := Scalar.indexCast v2017
  let c0_849 : Index := 0#32
  ![v2025.toNat, 0]

def k0_chk374 (i : grid0.Coords) (v13 : BitVec 32) (v2015 : BitVec 32) : Prop :=
  (∀ (k0_h5 : k0_cond5 i v13 = 1#1), 8 ∣ (k0_mult371 v2015).toNat) ∧
  (∀ (k0_h5 : k0_cond5 i v13 = 1#1), ∀ a, (k0_off877 v2015) a + S8x128.size a ≤ S65536x128.size a) ∧
  (∀ (k0_h5 : k0_cond5 i v13 = 1#1), ∀ a, (k0_off878 v2015) a + S1x128.size a ≤ S8192x128.size a)
theorem k0_mult371_dvd : ∀ (i : grid0.Coords) (v13 : BitVec 32) (v2015 : BitVec 32) (k0_hw374 : k0_chk374 i v13 v2015), ∀ (k0_h5 : k0_cond5 i v13 = 1#1), 8 ∣ (k0_mult371 v2015).toNat := fun i v13 v2015 k0_hw374 k0_h5 => k0_hw374.1 k0_h5
theorem k0_off877_inb : ∀ (i : grid0.Coords) (v13 : BitVec 32) (v2015 : BitVec 32) (k0_hw374 : k0_chk374 i v13 v2015), ∀ (k0_h5 : k0_cond5 i v13 = 1#1), ∀ a, (k0_off877 v2015) a + S8x128.size a ≤ S65536x128.size a := fun i v13 v2015 k0_hw374 k0_h5 => k0_hw374.2.1 k0_h5
theorem k0_off878_inb : ∀ (i : grid0.Coords) (v13 : BitVec 32) (v2015 : BitVec 32) (k0_hw374 : k0_chk374 i v13 v2015), ∀ (k0_h5 : k0_cond5 i v13 = 1#1), ∀ a, (k0_off878 v2015) a + S1x128.size a ≤ S8192x128.size a := fun i v13 v2015 k0_hw374 k0_h5 => k0_hw374.2.2 k0_h5

def k0_off879 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c115_i32 : BitVec 32 := 115#32
  let v2030 : BitVec 32 := Scalar.addi v74 c115_i32
  let v2031 : Index := Scalar.indexCast v2030
  ![v2031.toNat]
def k0_mult372 (v2032 : BitVec 32) : BitVec 32 :=
  let c3_i32_851 : BitVec 32 := 3#32
  let v2033 : BitVec 32 := Scalar.shrsi v2032 c3_i32_851
  let c8191_i32_852 : BitVec 32 := 8191#32
  let v2034 : BitVec 32 := Scalar.andi v2033 c8191_i32_852
  let c8_i32_853 : BitVec 32 := 8#32
  let v2035 : BitVec 32 := Scalar.muli v2034 c8_i32_853
  v2035

def k0_off880 (v2032 : BitVec 32) : Fin 2 → Nat :=
  let c3_i32_851 : BitVec 32 := 3#32
  let v2033 : BitVec 32 := Scalar.shrsi v2032 c3_i32_851
  let c8191_i32_852 : BitVec 32 := 8191#32
  let v2034 : BitVec 32 := Scalar.andi v2033 c8191_i32_852
  let c8_i32_853 : BitVec 32 := 8#32
  let v2035 : BitVec 32 := Scalar.muli v2034 c8_i32_853
  let v2036 : BitVec 32 := v2035
  let v2037 : Index := Scalar.indexCast v2036
  let c0_854 : Index := 0#32
  ![v2037.toNat, 0]
def k0_off881 (v2032 : BitVec 32) : Fin 2 → Nat :=
  let c3_i32_851 : BitVec 32 := 3#32
  let v2033 : BitVec 32 := Scalar.shrsi v2032 c3_i32_851
  let c8191_i32_852 : BitVec 32 := 8191#32
  let v2034 : BitVec 32 := Scalar.andi v2033 c8191_i32_852
  let v2042 : Index := Scalar.indexCast v2034
  let c0_856 : Index := 0#32
  ![v2042.toNat, 0]

def k0_chk375 (i : grid0.Coords) (v13 : BitVec 32) (v2032 : BitVec 32) : Prop :=
  (∀ (k0_h5 : k0_cond5 i v13 = 1#1), 8 ∣ (k0_mult372 v2032).toNat) ∧
  (∀ (k0_h5 : k0_cond5 i v13 = 1#1), ∀ a, (k0_off880 v2032) a + S8x128.size a ≤ S65536x128.size a) ∧
  (∀ (k0_h5 : k0_cond5 i v13 = 1#1), ∀ a, (k0_off881 v2032) a + S1x128.size a ≤ S8192x128.size a)
theorem k0_mult372_dvd : ∀ (i : grid0.Coords) (v13 : BitVec 32) (v2032 : BitVec 32) (k0_hw375 : k0_chk375 i v13 v2032), ∀ (k0_h5 : k0_cond5 i v13 = 1#1), 8 ∣ (k0_mult372 v2032).toNat := fun i v13 v2032 k0_hw375 k0_h5 => k0_hw375.1 k0_h5
theorem k0_off880_inb : ∀ (i : grid0.Coords) (v13 : BitVec 32) (v2032 : BitVec 32) (k0_hw375 : k0_chk375 i v13 v2032), ∀ (k0_h5 : k0_cond5 i v13 = 1#1), ∀ a, (k0_off880 v2032) a + S8x128.size a ≤ S65536x128.size a := fun i v13 v2032 k0_hw375 k0_h5 => k0_hw375.2.1 k0_h5
theorem k0_off881_inb : ∀ (i : grid0.Coords) (v13 : BitVec 32) (v2032 : BitVec 32) (k0_hw375 : k0_chk375 i v13 v2032), ∀ (k0_h5 : k0_cond5 i v13 = 1#1), ∀ a, (k0_off881 v2032) a + S1x128.size a ≤ S8192x128.size a := fun i v13 v2032 k0_hw375 k0_h5 => k0_hw375.2.2 k0_h5

def k0_off882 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c116_i32 : BitVec 32 := 116#32
  let v2047 : BitVec 32 := Scalar.addi v74 c116_i32
  let v2048 : Index := Scalar.indexCast v2047
  ![v2048.toNat]
def k0_mult373 (v2049 : BitVec 32) : BitVec 32 :=
  let c3_i32_858 : BitVec 32 := 3#32
  let v2050 : BitVec 32 := Scalar.shrsi v2049 c3_i32_858
  let c8191_i32_859 : BitVec 32 := 8191#32
  let v2051 : BitVec 32 := Scalar.andi v2050 c8191_i32_859
  let c8_i32_860 : BitVec 32 := 8#32
  let v2052 : BitVec 32 := Scalar.muli v2051 c8_i32_860
  v2052

def k0_off883 (v2049 : BitVec 32) : Fin 2 → Nat :=
  let c3_i32_858 : BitVec 32 := 3#32
  let v2050 : BitVec 32 := Scalar.shrsi v2049 c3_i32_858
  let c8191_i32_859 : BitVec 32 := 8191#32
  let v2051 : BitVec 32 := Scalar.andi v2050 c8191_i32_859
  let c8_i32_860 : BitVec 32 := 8#32
  let v2052 : BitVec 32 := Scalar.muli v2051 c8_i32_860
  let v2053 : BitVec 32 := v2052
  let v2054 : Index := Scalar.indexCast v2053
  let c0_861 : Index := 0#32
  ![v2054.toNat, 0]
def k0_off884 (v2049 : BitVec 32) : Fin 2 → Nat :=
  let c3_i32_858 : BitVec 32 := 3#32
  let v2050 : BitVec 32 := Scalar.shrsi v2049 c3_i32_858
  let c8191_i32_859 : BitVec 32 := 8191#32
  let v2051 : BitVec 32 := Scalar.andi v2050 c8191_i32_859
  let v2059 : Index := Scalar.indexCast v2051
  let c0_863 : Index := 0#32
  ![v2059.toNat, 0]

def k0_chk376 (i : grid0.Coords) (v13 : BitVec 32) (v2049 : BitVec 32) : Prop :=
  (∀ (k0_h5 : k0_cond5 i v13 = 1#1), 8 ∣ (k0_mult373 v2049).toNat) ∧
  (∀ (k0_h5 : k0_cond5 i v13 = 1#1), ∀ a, (k0_off883 v2049) a + S8x128.size a ≤ S65536x128.size a) ∧
  (∀ (k0_h5 : k0_cond5 i v13 = 1#1), ∀ a, (k0_off884 v2049) a + S1x128.size a ≤ S8192x128.size a)
theorem k0_mult373_dvd : ∀ (i : grid0.Coords) (v13 : BitVec 32) (v2049 : BitVec 32) (k0_hw376 : k0_chk376 i v13 v2049), ∀ (k0_h5 : k0_cond5 i v13 = 1#1), 8 ∣ (k0_mult373 v2049).toNat := fun i v13 v2049 k0_hw376 k0_h5 => k0_hw376.1 k0_h5
theorem k0_off883_inb : ∀ (i : grid0.Coords) (v13 : BitVec 32) (v2049 : BitVec 32) (k0_hw376 : k0_chk376 i v13 v2049), ∀ (k0_h5 : k0_cond5 i v13 = 1#1), ∀ a, (k0_off883 v2049) a + S8x128.size a ≤ S65536x128.size a := fun i v13 v2049 k0_hw376 k0_h5 => k0_hw376.2.1 k0_h5
theorem k0_off884_inb : ∀ (i : grid0.Coords) (v13 : BitVec 32) (v2049 : BitVec 32) (k0_hw376 : k0_chk376 i v13 v2049), ∀ (k0_h5 : k0_cond5 i v13 = 1#1), ∀ a, (k0_off884 v2049) a + S1x128.size a ≤ S8192x128.size a := fun i v13 v2049 k0_hw376 k0_h5 => k0_hw376.2.2 k0_h5

def k0_off885 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c117_i32 : BitVec 32 := 117#32
  let v2064 : BitVec 32 := Scalar.addi v74 c117_i32
  let v2065 : Index := Scalar.indexCast v2064
  ![v2065.toNat]
def k0_mult374 (v2066 : BitVec 32) : BitVec 32 :=
  let c3_i32_865 : BitVec 32 := 3#32
  let v2067 : BitVec 32 := Scalar.shrsi v2066 c3_i32_865
  let c8191_i32_866 : BitVec 32 := 8191#32
  let v2068 : BitVec 32 := Scalar.andi v2067 c8191_i32_866
  let c8_i32_867 : BitVec 32 := 8#32
  let v2069 : BitVec 32 := Scalar.muli v2068 c8_i32_867
  v2069

def k0_off886 (v2066 : BitVec 32) : Fin 2 → Nat :=
  let c3_i32_865 : BitVec 32 := 3#32
  let v2067 : BitVec 32 := Scalar.shrsi v2066 c3_i32_865
  let c8191_i32_866 : BitVec 32 := 8191#32
  let v2068 : BitVec 32 := Scalar.andi v2067 c8191_i32_866
  let c8_i32_867 : BitVec 32 := 8#32
  let v2069 : BitVec 32 := Scalar.muli v2068 c8_i32_867
  let v2070 : BitVec 32 := v2069
  let v2071 : Index := Scalar.indexCast v2070
  let c0_868 : Index := 0#32
  ![v2071.toNat, 0]
def k0_off887 (v2066 : BitVec 32) : Fin 2 → Nat :=
  let c3_i32_865 : BitVec 32 := 3#32
  let v2067 : BitVec 32 := Scalar.shrsi v2066 c3_i32_865
  let c8191_i32_866 : BitVec 32 := 8191#32
  let v2068 : BitVec 32 := Scalar.andi v2067 c8191_i32_866
  let v2076 : Index := Scalar.indexCast v2068
  let c0_870 : Index := 0#32
  ![v2076.toNat, 0]

def k0_chk377 (i : grid0.Coords) (v13 : BitVec 32) (v2066 : BitVec 32) : Prop :=
  (∀ (k0_h5 : k0_cond5 i v13 = 1#1), 8 ∣ (k0_mult374 v2066).toNat) ∧
  (∀ (k0_h5 : k0_cond5 i v13 = 1#1), ∀ a, (k0_off886 v2066) a + S8x128.size a ≤ S65536x128.size a) ∧
  (∀ (k0_h5 : k0_cond5 i v13 = 1#1), ∀ a, (k0_off887 v2066) a + S1x128.size a ≤ S8192x128.size a)
theorem k0_mult374_dvd : ∀ (i : grid0.Coords) (v13 : BitVec 32) (v2066 : BitVec 32) (k0_hw377 : k0_chk377 i v13 v2066), ∀ (k0_h5 : k0_cond5 i v13 = 1#1), 8 ∣ (k0_mult374 v2066).toNat := fun i v13 v2066 k0_hw377 k0_h5 => k0_hw377.1 k0_h5
theorem k0_off886_inb : ∀ (i : grid0.Coords) (v13 : BitVec 32) (v2066 : BitVec 32) (k0_hw377 : k0_chk377 i v13 v2066), ∀ (k0_h5 : k0_cond5 i v13 = 1#1), ∀ a, (k0_off886 v2066) a + S8x128.size a ≤ S65536x128.size a := fun i v13 v2066 k0_hw377 k0_h5 => k0_hw377.2.1 k0_h5
theorem k0_off887_inb : ∀ (i : grid0.Coords) (v13 : BitVec 32) (v2066 : BitVec 32) (k0_hw377 : k0_chk377 i v13 v2066), ∀ (k0_h5 : k0_cond5 i v13 = 1#1), ∀ a, (k0_off887 v2066) a + S1x128.size a ≤ S8192x128.size a := fun i v13 v2066 k0_hw377 k0_h5 => k0_hw377.2.2 k0_h5

def k0_off888 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c118_i32 : BitVec 32 := 118#32
  let v2081 : BitVec 32 := Scalar.addi v74 c118_i32
  let v2082 : Index := Scalar.indexCast v2081
  ![v2082.toNat]
def k0_mult375 (v2083 : BitVec 32) : BitVec 32 :=
  let c3_i32_872 : BitVec 32 := 3#32
  let v2084 : BitVec 32 := Scalar.shrsi v2083 c3_i32_872
  let c8191_i32_873 : BitVec 32 := 8191#32
  let v2085 : BitVec 32 := Scalar.andi v2084 c8191_i32_873
  let c8_i32_874 : BitVec 32 := 8#32
  let v2086 : BitVec 32 := Scalar.muli v2085 c8_i32_874
  v2086

def k0_off889 (v2083 : BitVec 32) : Fin 2 → Nat :=
  let c3_i32_872 : BitVec 32 := 3#32
  let v2084 : BitVec 32 := Scalar.shrsi v2083 c3_i32_872
  let c8191_i32_873 : BitVec 32 := 8191#32
  let v2085 : BitVec 32 := Scalar.andi v2084 c8191_i32_873
  let c8_i32_874 : BitVec 32 := 8#32
  let v2086 : BitVec 32 := Scalar.muli v2085 c8_i32_874
  let v2087 : BitVec 32 := v2086
  let v2088 : Index := Scalar.indexCast v2087
  let c0_875 : Index := 0#32
  ![v2088.toNat, 0]
def k0_off890 (v2083 : BitVec 32) : Fin 2 → Nat :=
  let c3_i32_872 : BitVec 32 := 3#32
  let v2084 : BitVec 32 := Scalar.shrsi v2083 c3_i32_872
  let c8191_i32_873 : BitVec 32 := 8191#32
  let v2085 : BitVec 32 := Scalar.andi v2084 c8191_i32_873
  let v2093 : Index := Scalar.indexCast v2085
  let c0_877 : Index := 0#32
  ![v2093.toNat, 0]

def k0_chk378 (i : grid0.Coords) (v13 : BitVec 32) (v2083 : BitVec 32) : Prop :=
  (∀ (k0_h5 : k0_cond5 i v13 = 1#1), 8 ∣ (k0_mult375 v2083).toNat) ∧
  (∀ (k0_h5 : k0_cond5 i v13 = 1#1), ∀ a, (k0_off889 v2083) a + S8x128.size a ≤ S65536x128.size a) ∧
  (∀ (k0_h5 : k0_cond5 i v13 = 1#1), ∀ a, (k0_off890 v2083) a + S1x128.size a ≤ S8192x128.size a)
theorem k0_mult375_dvd : ∀ (i : grid0.Coords) (v13 : BitVec 32) (v2083 : BitVec 32) (k0_hw378 : k0_chk378 i v13 v2083), ∀ (k0_h5 : k0_cond5 i v13 = 1#1), 8 ∣ (k0_mult375 v2083).toNat := fun i v13 v2083 k0_hw378 k0_h5 => k0_hw378.1 k0_h5
theorem k0_off889_inb : ∀ (i : grid0.Coords) (v13 : BitVec 32) (v2083 : BitVec 32) (k0_hw378 : k0_chk378 i v13 v2083), ∀ (k0_h5 : k0_cond5 i v13 = 1#1), ∀ a, (k0_off889 v2083) a + S8x128.size a ≤ S65536x128.size a := fun i v13 v2083 k0_hw378 k0_h5 => k0_hw378.2.1 k0_h5
theorem k0_off890_inb : ∀ (i : grid0.Coords) (v13 : BitVec 32) (v2083 : BitVec 32) (k0_hw378 : k0_chk378 i v13 v2083), ∀ (k0_h5 : k0_cond5 i v13 = 1#1), ∀ a, (k0_off890 v2083) a + S1x128.size a ≤ S8192x128.size a := fun i v13 v2083 k0_hw378 k0_h5 => k0_hw378.2.2 k0_h5

def k0_off891 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c119_i32 : BitVec 32 := 119#32
  let v2098 : BitVec 32 := Scalar.addi v74 c119_i32
  let v2099 : Index := Scalar.indexCast v2098
  ![v2099.toNat]
def k0_mult376 (v2100 : BitVec 32) : BitVec 32 :=
  let c3_i32_879 : BitVec 32 := 3#32
  let v2101 : BitVec 32 := Scalar.shrsi v2100 c3_i32_879
  let c8191_i32_880 : BitVec 32 := 8191#32
  let v2102 : BitVec 32 := Scalar.andi v2101 c8191_i32_880
  let c8_i32_881 : BitVec 32 := 8#32
  let v2103 : BitVec 32 := Scalar.muli v2102 c8_i32_881
  v2103

def k0_off892 (v2100 : BitVec 32) : Fin 2 → Nat :=
  let c3_i32_879 : BitVec 32 := 3#32
  let v2101 : BitVec 32 := Scalar.shrsi v2100 c3_i32_879
  let c8191_i32_880 : BitVec 32 := 8191#32
  let v2102 : BitVec 32 := Scalar.andi v2101 c8191_i32_880
  let c8_i32_881 : BitVec 32 := 8#32
  let v2103 : BitVec 32 := Scalar.muli v2102 c8_i32_881
  let v2104 : BitVec 32 := v2103
  let v2105 : Index := Scalar.indexCast v2104
  let c0_882 : Index := 0#32
  ![v2105.toNat, 0]
def k0_off893 (v2100 : BitVec 32) : Fin 2 → Nat :=
  let c3_i32_879 : BitVec 32 := 3#32
  let v2101 : BitVec 32 := Scalar.shrsi v2100 c3_i32_879
  let c8191_i32_880 : BitVec 32 := 8191#32
  let v2102 : BitVec 32 := Scalar.andi v2101 c8191_i32_880
  let v2110 : Index := Scalar.indexCast v2102
  let c0_884 : Index := 0#32
  ![v2110.toNat, 0]

def k0_chk379 (i : grid0.Coords) (v13 : BitVec 32) (v2100 : BitVec 32) : Prop :=
  (∀ (k0_h5 : k0_cond5 i v13 = 1#1), 8 ∣ (k0_mult376 v2100).toNat) ∧
  (∀ (k0_h5 : k0_cond5 i v13 = 1#1), ∀ a, (k0_off892 v2100) a + S8x128.size a ≤ S65536x128.size a) ∧
  (∀ (k0_h5 : k0_cond5 i v13 = 1#1), ∀ a, (k0_off893 v2100) a + S1x128.size a ≤ S8192x128.size a)
theorem k0_mult376_dvd : ∀ (i : grid0.Coords) (v13 : BitVec 32) (v2100 : BitVec 32) (k0_hw379 : k0_chk379 i v13 v2100), ∀ (k0_h5 : k0_cond5 i v13 = 1#1), 8 ∣ (k0_mult376 v2100).toNat := fun i v13 v2100 k0_hw379 k0_h5 => k0_hw379.1 k0_h5
theorem k0_off892_inb : ∀ (i : grid0.Coords) (v13 : BitVec 32) (v2100 : BitVec 32) (k0_hw379 : k0_chk379 i v13 v2100), ∀ (k0_h5 : k0_cond5 i v13 = 1#1), ∀ a, (k0_off892 v2100) a + S8x128.size a ≤ S65536x128.size a := fun i v13 v2100 k0_hw379 k0_h5 => k0_hw379.2.1 k0_h5
theorem k0_off893_inb : ∀ (i : grid0.Coords) (v13 : BitVec 32) (v2100 : BitVec 32) (k0_hw379 : k0_chk379 i v13 v2100), ∀ (k0_h5 : k0_cond5 i v13 = 1#1), ∀ a, (k0_off893 v2100) a + S1x128.size a ≤ S8192x128.size a := fun i v13 v2100 k0_hw379 k0_h5 => k0_hw379.2.2 k0_h5

def k0_off894 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c120_i32 : BitVec 32 := 120#32
  let v2115 : BitVec 32 := Scalar.addi v74 c120_i32
  let v2116 : Index := Scalar.indexCast v2115
  ![v2116.toNat]
def k0_mult377 (v2117 : BitVec 32) : BitVec 32 :=
  let c3_i32_886 : BitVec 32 := 3#32
  let v2118 : BitVec 32 := Scalar.shrsi v2117 c3_i32_886
  let c8191_i32_887 : BitVec 32 := 8191#32
  let v2119 : BitVec 32 := Scalar.andi v2118 c8191_i32_887
  let c8_i32_888 : BitVec 32 := 8#32
  let v2120 : BitVec 32 := Scalar.muli v2119 c8_i32_888
  v2120

def k0_off895 (v2117 : BitVec 32) : Fin 2 → Nat :=
  let c3_i32_886 : BitVec 32 := 3#32
  let v2118 : BitVec 32 := Scalar.shrsi v2117 c3_i32_886
  let c8191_i32_887 : BitVec 32 := 8191#32
  let v2119 : BitVec 32 := Scalar.andi v2118 c8191_i32_887
  let c8_i32_888 : BitVec 32 := 8#32
  let v2120 : BitVec 32 := Scalar.muli v2119 c8_i32_888
  let v2121 : BitVec 32 := v2120
  let v2122 : Index := Scalar.indexCast v2121
  let c0_889 : Index := 0#32
  ![v2122.toNat, 0]
def k0_off896 (v2117 : BitVec 32) : Fin 2 → Nat :=
  let c3_i32_886 : BitVec 32 := 3#32
  let v2118 : BitVec 32 := Scalar.shrsi v2117 c3_i32_886
  let c8191_i32_887 : BitVec 32 := 8191#32
  let v2119 : BitVec 32 := Scalar.andi v2118 c8191_i32_887
  let v2127 : Index := Scalar.indexCast v2119
  let c0_891 : Index := 0#32
  ![v2127.toNat, 0]

def k0_chk380 (i : grid0.Coords) (v13 : BitVec 32) (v2117 : BitVec 32) : Prop :=
  (∀ (k0_h5 : k0_cond5 i v13 = 1#1), 8 ∣ (k0_mult377 v2117).toNat) ∧
  (∀ (k0_h5 : k0_cond5 i v13 = 1#1), ∀ a, (k0_off895 v2117) a + S8x128.size a ≤ S65536x128.size a) ∧
  (∀ (k0_h5 : k0_cond5 i v13 = 1#1), ∀ a, (k0_off896 v2117) a + S1x128.size a ≤ S8192x128.size a)
theorem k0_mult377_dvd : ∀ (i : grid0.Coords) (v13 : BitVec 32) (v2117 : BitVec 32) (k0_hw380 : k0_chk380 i v13 v2117), ∀ (k0_h5 : k0_cond5 i v13 = 1#1), 8 ∣ (k0_mult377 v2117).toNat := fun i v13 v2117 k0_hw380 k0_h5 => k0_hw380.1 k0_h5
theorem k0_off895_inb : ∀ (i : grid0.Coords) (v13 : BitVec 32) (v2117 : BitVec 32) (k0_hw380 : k0_chk380 i v13 v2117), ∀ (k0_h5 : k0_cond5 i v13 = 1#1), ∀ a, (k0_off895 v2117) a + S8x128.size a ≤ S65536x128.size a := fun i v13 v2117 k0_hw380 k0_h5 => k0_hw380.2.1 k0_h5
theorem k0_off896_inb : ∀ (i : grid0.Coords) (v13 : BitVec 32) (v2117 : BitVec 32) (k0_hw380 : k0_chk380 i v13 v2117), ∀ (k0_h5 : k0_cond5 i v13 = 1#1), ∀ a, (k0_off896 v2117) a + S1x128.size a ≤ S8192x128.size a := fun i v13 v2117 k0_hw380 k0_h5 => k0_hw380.2.2 k0_h5

def k0_off897 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c121_i32 : BitVec 32 := 121#32
  let v2132 : BitVec 32 := Scalar.addi v74 c121_i32
  let v2133 : Index := Scalar.indexCast v2132
  ![v2133.toNat]
def k0_mult378 (v2134 : BitVec 32) : BitVec 32 :=
  let c3_i32_894 : BitVec 32 := 3#32
  let v2135 : BitVec 32 := Scalar.shrsi v2134 c3_i32_894
  let c8191_i32_895 : BitVec 32 := 8191#32
  let v2136 : BitVec 32 := Scalar.andi v2135 c8191_i32_895
  let c8_i32_896 : BitVec 32 := 8#32
  let v2137 : BitVec 32 := Scalar.muli v2136 c8_i32_896
  v2137

def k0_off898 (v2134 : BitVec 32) : Fin 2 → Nat :=
  let c3_i32_894 : BitVec 32 := 3#32
  let v2135 : BitVec 32 := Scalar.shrsi v2134 c3_i32_894
  let c8191_i32_895 : BitVec 32 := 8191#32
  let v2136 : BitVec 32 := Scalar.andi v2135 c8191_i32_895
  let c8_i32_896 : BitVec 32 := 8#32
  let v2137 : BitVec 32 := Scalar.muli v2136 c8_i32_896
  let v2138 : BitVec 32 := v2137
  let v2139 : Index := Scalar.indexCast v2138
  let c0_897 : Index := 0#32
  ![v2139.toNat, 0]
def k0_off899 (v2134 : BitVec 32) : Fin 2 → Nat :=
  let c3_i32_894 : BitVec 32 := 3#32
  let v2135 : BitVec 32 := Scalar.shrsi v2134 c3_i32_894
  let c8191_i32_895 : BitVec 32 := 8191#32
  let v2136 : BitVec 32 := Scalar.andi v2135 c8191_i32_895
  let v2144 : Index := Scalar.indexCast v2136
  let c0_899 : Index := 0#32
  ![v2144.toNat, 0]

def k0_chk381 (i : grid0.Coords) (v13 : BitVec 32) (v2134 : BitVec 32) : Prop :=
  (∀ (k0_h5 : k0_cond5 i v13 = 1#1), 8 ∣ (k0_mult378 v2134).toNat) ∧
  (∀ (k0_h5 : k0_cond5 i v13 = 1#1), ∀ a, (k0_off898 v2134) a + S8x128.size a ≤ S65536x128.size a) ∧
  (∀ (k0_h5 : k0_cond5 i v13 = 1#1), ∀ a, (k0_off899 v2134) a + S1x128.size a ≤ S8192x128.size a)
theorem k0_mult378_dvd : ∀ (i : grid0.Coords) (v13 : BitVec 32) (v2134 : BitVec 32) (k0_hw381 : k0_chk381 i v13 v2134), ∀ (k0_h5 : k0_cond5 i v13 = 1#1), 8 ∣ (k0_mult378 v2134).toNat := fun i v13 v2134 k0_hw381 k0_h5 => k0_hw381.1 k0_h5
theorem k0_off898_inb : ∀ (i : grid0.Coords) (v13 : BitVec 32) (v2134 : BitVec 32) (k0_hw381 : k0_chk381 i v13 v2134), ∀ (k0_h5 : k0_cond5 i v13 = 1#1), ∀ a, (k0_off898 v2134) a + S8x128.size a ≤ S65536x128.size a := fun i v13 v2134 k0_hw381 k0_h5 => k0_hw381.2.1 k0_h5
theorem k0_off899_inb : ∀ (i : grid0.Coords) (v13 : BitVec 32) (v2134 : BitVec 32) (k0_hw381 : k0_chk381 i v13 v2134), ∀ (k0_h5 : k0_cond5 i v13 = 1#1), ∀ a, (k0_off899 v2134) a + S1x128.size a ≤ S8192x128.size a := fun i v13 v2134 k0_hw381 k0_h5 => k0_hw381.2.2 k0_h5

def k0_off900 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c122_i32 : BitVec 32 := 122#32
  let v2149 : BitVec 32 := Scalar.addi v74 c122_i32
  let v2150 : Index := Scalar.indexCast v2149
  ![v2150.toNat]
def k0_mult379 (v2151 : BitVec 32) : BitVec 32 :=
  let c3_i32_901 : BitVec 32 := 3#32
  let v2152 : BitVec 32 := Scalar.shrsi v2151 c3_i32_901
  let c8191_i32_902 : BitVec 32 := 8191#32
  let v2153 : BitVec 32 := Scalar.andi v2152 c8191_i32_902
  let c8_i32_903 : BitVec 32 := 8#32
  let v2154 : BitVec 32 := Scalar.muli v2153 c8_i32_903
  v2154

def k0_off901 (v2151 : BitVec 32) : Fin 2 → Nat :=
  let c3_i32_901 : BitVec 32 := 3#32
  let v2152 : BitVec 32 := Scalar.shrsi v2151 c3_i32_901
  let c8191_i32_902 : BitVec 32 := 8191#32
  let v2153 : BitVec 32 := Scalar.andi v2152 c8191_i32_902
  let c8_i32_903 : BitVec 32 := 8#32
  let v2154 : BitVec 32 := Scalar.muli v2153 c8_i32_903
  let v2155 : BitVec 32 := v2154
  let v2156 : Index := Scalar.indexCast v2155
  let c0_904 : Index := 0#32
  ![v2156.toNat, 0]
def k0_off902 (v2151 : BitVec 32) : Fin 2 → Nat :=
  let c3_i32_901 : BitVec 32 := 3#32
  let v2152 : BitVec 32 := Scalar.shrsi v2151 c3_i32_901
  let c8191_i32_902 : BitVec 32 := 8191#32
  let v2153 : BitVec 32 := Scalar.andi v2152 c8191_i32_902
  let v2161 : Index := Scalar.indexCast v2153
  let c0_906 : Index := 0#32
  ![v2161.toNat, 0]

def k0_chk382 (i : grid0.Coords) (v13 : BitVec 32) (v2151 : BitVec 32) : Prop :=
  (∀ (k0_h5 : k0_cond5 i v13 = 1#1), 8 ∣ (k0_mult379 v2151).toNat) ∧
  (∀ (k0_h5 : k0_cond5 i v13 = 1#1), ∀ a, (k0_off901 v2151) a + S8x128.size a ≤ S65536x128.size a) ∧
  (∀ (k0_h5 : k0_cond5 i v13 = 1#1), ∀ a, (k0_off902 v2151) a + S1x128.size a ≤ S8192x128.size a)
theorem k0_mult379_dvd : ∀ (i : grid0.Coords) (v13 : BitVec 32) (v2151 : BitVec 32) (k0_hw382 : k0_chk382 i v13 v2151), ∀ (k0_h5 : k0_cond5 i v13 = 1#1), 8 ∣ (k0_mult379 v2151).toNat := fun i v13 v2151 k0_hw382 k0_h5 => k0_hw382.1 k0_h5
theorem k0_off901_inb : ∀ (i : grid0.Coords) (v13 : BitVec 32) (v2151 : BitVec 32) (k0_hw382 : k0_chk382 i v13 v2151), ∀ (k0_h5 : k0_cond5 i v13 = 1#1), ∀ a, (k0_off901 v2151) a + S8x128.size a ≤ S65536x128.size a := fun i v13 v2151 k0_hw382 k0_h5 => k0_hw382.2.1 k0_h5
theorem k0_off902_inb : ∀ (i : grid0.Coords) (v13 : BitVec 32) (v2151 : BitVec 32) (k0_hw382 : k0_chk382 i v13 v2151), ∀ (k0_h5 : k0_cond5 i v13 = 1#1), ∀ a, (k0_off902 v2151) a + S1x128.size a ≤ S8192x128.size a := fun i v13 v2151 k0_hw382 k0_h5 => k0_hw382.2.2 k0_h5

def k0_off903 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c123_i32 : BitVec 32 := 123#32
  let v2166 : BitVec 32 := Scalar.addi v74 c123_i32
  let v2167 : Index := Scalar.indexCast v2166
  ![v2167.toNat]
def k0_mult380 (v2168 : BitVec 32) : BitVec 32 :=
  let c3_i32_908 : BitVec 32 := 3#32
  let v2169 : BitVec 32 := Scalar.shrsi v2168 c3_i32_908
  let c8191_i32_909 : BitVec 32 := 8191#32
  let v2170 : BitVec 32 := Scalar.andi v2169 c8191_i32_909
  let c8_i32_910 : BitVec 32 := 8#32
  let v2171 : BitVec 32 := Scalar.muli v2170 c8_i32_910
  v2171

def k0_off904 (v2168 : BitVec 32) : Fin 2 → Nat :=
  let c3_i32_908 : BitVec 32 := 3#32
  let v2169 : BitVec 32 := Scalar.shrsi v2168 c3_i32_908
  let c8191_i32_909 : BitVec 32 := 8191#32
  let v2170 : BitVec 32 := Scalar.andi v2169 c8191_i32_909
  let c8_i32_910 : BitVec 32 := 8#32
  let v2171 : BitVec 32 := Scalar.muli v2170 c8_i32_910
  let v2172 : BitVec 32 := v2171
  let v2173 : Index := Scalar.indexCast v2172
  let c0_911 : Index := 0#32
  ![v2173.toNat, 0]
def k0_off905 (v2168 : BitVec 32) : Fin 2 → Nat :=
  let c3_i32_908 : BitVec 32 := 3#32
  let v2169 : BitVec 32 := Scalar.shrsi v2168 c3_i32_908
  let c8191_i32_909 : BitVec 32 := 8191#32
  let v2170 : BitVec 32 := Scalar.andi v2169 c8191_i32_909
  let v2178 : Index := Scalar.indexCast v2170
  let c0_913 : Index := 0#32
  ![v2178.toNat, 0]

def k0_chk383 (i : grid0.Coords) (v13 : BitVec 32) (v2168 : BitVec 32) : Prop :=
  (∀ (k0_h5 : k0_cond5 i v13 = 1#1), 8 ∣ (k0_mult380 v2168).toNat) ∧
  (∀ (k0_h5 : k0_cond5 i v13 = 1#1), ∀ a, (k0_off904 v2168) a + S8x128.size a ≤ S65536x128.size a) ∧
  (∀ (k0_h5 : k0_cond5 i v13 = 1#1), ∀ a, (k0_off905 v2168) a + S1x128.size a ≤ S8192x128.size a)
theorem k0_mult380_dvd : ∀ (i : grid0.Coords) (v13 : BitVec 32) (v2168 : BitVec 32) (k0_hw383 : k0_chk383 i v13 v2168), ∀ (k0_h5 : k0_cond5 i v13 = 1#1), 8 ∣ (k0_mult380 v2168).toNat := fun i v13 v2168 k0_hw383 k0_h5 => k0_hw383.1 k0_h5
theorem k0_off904_inb : ∀ (i : grid0.Coords) (v13 : BitVec 32) (v2168 : BitVec 32) (k0_hw383 : k0_chk383 i v13 v2168), ∀ (k0_h5 : k0_cond5 i v13 = 1#1), ∀ a, (k0_off904 v2168) a + S8x128.size a ≤ S65536x128.size a := fun i v13 v2168 k0_hw383 k0_h5 => k0_hw383.2.1 k0_h5
theorem k0_off905_inb : ∀ (i : grid0.Coords) (v13 : BitVec 32) (v2168 : BitVec 32) (k0_hw383 : k0_chk383 i v13 v2168), ∀ (k0_h5 : k0_cond5 i v13 = 1#1), ∀ a, (k0_off905 v2168) a + S1x128.size a ≤ S8192x128.size a := fun i v13 v2168 k0_hw383 k0_h5 => k0_hw383.2.2 k0_h5

def k0_off906 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c124_i32 : BitVec 32 := 124#32
  let v2183 : BitVec 32 := Scalar.addi v74 c124_i32
  let v2184 : Index := Scalar.indexCast v2183
  ![v2184.toNat]
def k0_mult381 (v2185 : BitVec 32) : BitVec 32 :=
  let c3_i32_915 : BitVec 32 := 3#32
  let v2186 : BitVec 32 := Scalar.shrsi v2185 c3_i32_915
  let c8191_i32_916 : BitVec 32 := 8191#32
  let v2187 : BitVec 32 := Scalar.andi v2186 c8191_i32_916
  let c8_i32_917 : BitVec 32 := 8#32
  let v2188 : BitVec 32 := Scalar.muli v2187 c8_i32_917
  v2188

def k0_off907 (v2185 : BitVec 32) : Fin 2 → Nat :=
  let c3_i32_915 : BitVec 32 := 3#32
  let v2186 : BitVec 32 := Scalar.shrsi v2185 c3_i32_915
  let c8191_i32_916 : BitVec 32 := 8191#32
  let v2187 : BitVec 32 := Scalar.andi v2186 c8191_i32_916
  let c8_i32_917 : BitVec 32 := 8#32
  let v2188 : BitVec 32 := Scalar.muli v2187 c8_i32_917
  let v2189 : BitVec 32 := v2188
  let v2190 : Index := Scalar.indexCast v2189
  let c0_918 : Index := 0#32
  ![v2190.toNat, 0]
def k0_off908 (v2185 : BitVec 32) : Fin 2 → Nat :=
  let c3_i32_915 : BitVec 32 := 3#32
  let v2186 : BitVec 32 := Scalar.shrsi v2185 c3_i32_915
  let c8191_i32_916 : BitVec 32 := 8191#32
  let v2187 : BitVec 32 := Scalar.andi v2186 c8191_i32_916
  let v2195 : Index := Scalar.indexCast v2187
  let c0_920 : Index := 0#32
  ![v2195.toNat, 0]

def k0_chk384 (i : grid0.Coords) (v13 : BitVec 32) (v2185 : BitVec 32) : Prop :=
  (∀ (k0_h5 : k0_cond5 i v13 = 1#1), 8 ∣ (k0_mult381 v2185).toNat) ∧
  (∀ (k0_h5 : k0_cond5 i v13 = 1#1), ∀ a, (k0_off907 v2185) a + S8x128.size a ≤ S65536x128.size a) ∧
  (∀ (k0_h5 : k0_cond5 i v13 = 1#1), ∀ a, (k0_off908 v2185) a + S1x128.size a ≤ S8192x128.size a)
theorem k0_mult381_dvd : ∀ (i : grid0.Coords) (v13 : BitVec 32) (v2185 : BitVec 32) (k0_hw384 : k0_chk384 i v13 v2185), ∀ (k0_h5 : k0_cond5 i v13 = 1#1), 8 ∣ (k0_mult381 v2185).toNat := fun i v13 v2185 k0_hw384 k0_h5 => k0_hw384.1 k0_h5
theorem k0_off907_inb : ∀ (i : grid0.Coords) (v13 : BitVec 32) (v2185 : BitVec 32) (k0_hw384 : k0_chk384 i v13 v2185), ∀ (k0_h5 : k0_cond5 i v13 = 1#1), ∀ a, (k0_off907 v2185) a + S8x128.size a ≤ S65536x128.size a := fun i v13 v2185 k0_hw384 k0_h5 => k0_hw384.2.1 k0_h5
theorem k0_off908_inb : ∀ (i : grid0.Coords) (v13 : BitVec 32) (v2185 : BitVec 32) (k0_hw384 : k0_chk384 i v13 v2185), ∀ (k0_h5 : k0_cond5 i v13 = 1#1), ∀ a, (k0_off908 v2185) a + S1x128.size a ≤ S8192x128.size a := fun i v13 v2185 k0_hw384 k0_h5 => k0_hw384.2.2 k0_h5

def k0_off909 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c125_i32 : BitVec 32 := 125#32
  let v2200 : BitVec 32 := Scalar.addi v74 c125_i32
  let v2201 : Index := Scalar.indexCast v2200
  ![v2201.toNat]
def k0_mult382 (v2202 : BitVec 32) : BitVec 32 :=
  let c3_i32_922 : BitVec 32 := 3#32
  let v2203 : BitVec 32 := Scalar.shrsi v2202 c3_i32_922
  let c8191_i32_923 : BitVec 32 := 8191#32
  let v2204 : BitVec 32 := Scalar.andi v2203 c8191_i32_923
  let c8_i32_924 : BitVec 32 := 8#32
  let v2205 : BitVec 32 := Scalar.muli v2204 c8_i32_924
  v2205

def k0_off910 (v2202 : BitVec 32) : Fin 2 → Nat :=
  let c3_i32_922 : BitVec 32 := 3#32
  let v2203 : BitVec 32 := Scalar.shrsi v2202 c3_i32_922
  let c8191_i32_923 : BitVec 32 := 8191#32
  let v2204 : BitVec 32 := Scalar.andi v2203 c8191_i32_923
  let c8_i32_924 : BitVec 32 := 8#32
  let v2205 : BitVec 32 := Scalar.muli v2204 c8_i32_924
  let v2206 : BitVec 32 := v2205
  let v2207 : Index := Scalar.indexCast v2206
  let c0_925 : Index := 0#32
  ![v2207.toNat, 0]
def k0_off911 (v2202 : BitVec 32) : Fin 2 → Nat :=
  let c3_i32_922 : BitVec 32 := 3#32
  let v2203 : BitVec 32 := Scalar.shrsi v2202 c3_i32_922
  let c8191_i32_923 : BitVec 32 := 8191#32
  let v2204 : BitVec 32 := Scalar.andi v2203 c8191_i32_923
  let v2212 : Index := Scalar.indexCast v2204
  let c0_927 : Index := 0#32
  ![v2212.toNat, 0]

def k0_chk385 (i : grid0.Coords) (v13 : BitVec 32) (v2202 : BitVec 32) : Prop :=
  (∀ (k0_h5 : k0_cond5 i v13 = 1#1), 8 ∣ (k0_mult382 v2202).toNat) ∧
  (∀ (k0_h5 : k0_cond5 i v13 = 1#1), ∀ a, (k0_off910 v2202) a + S8x128.size a ≤ S65536x128.size a) ∧
  (∀ (k0_h5 : k0_cond5 i v13 = 1#1), ∀ a, (k0_off911 v2202) a + S1x128.size a ≤ S8192x128.size a)
theorem k0_mult382_dvd : ∀ (i : grid0.Coords) (v13 : BitVec 32) (v2202 : BitVec 32) (k0_hw385 : k0_chk385 i v13 v2202), ∀ (k0_h5 : k0_cond5 i v13 = 1#1), 8 ∣ (k0_mult382 v2202).toNat := fun i v13 v2202 k0_hw385 k0_h5 => k0_hw385.1 k0_h5
theorem k0_off910_inb : ∀ (i : grid0.Coords) (v13 : BitVec 32) (v2202 : BitVec 32) (k0_hw385 : k0_chk385 i v13 v2202), ∀ (k0_h5 : k0_cond5 i v13 = 1#1), ∀ a, (k0_off910 v2202) a + S8x128.size a ≤ S65536x128.size a := fun i v13 v2202 k0_hw385 k0_h5 => k0_hw385.2.1 k0_h5
theorem k0_off911_inb : ∀ (i : grid0.Coords) (v13 : BitVec 32) (v2202 : BitVec 32) (k0_hw385 : k0_chk385 i v13 v2202), ∀ (k0_h5 : k0_cond5 i v13 = 1#1), ∀ a, (k0_off911 v2202) a + S1x128.size a ≤ S8192x128.size a := fun i v13 v2202 k0_hw385 k0_h5 => k0_hw385.2.2 k0_h5

def k0_off912 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c126_i32 : BitVec 32 := 126#32
  let v2217 : BitVec 32 := Scalar.addi v74 c126_i32
  let v2218 : Index := Scalar.indexCast v2217
  ![v2218.toNat]
def k0_mult383 (v2219 : BitVec 32) : BitVec 32 :=
  let c3_i32_929 : BitVec 32 := 3#32
  let v2220 : BitVec 32 := Scalar.shrsi v2219 c3_i32_929
  let c8191_i32_930 : BitVec 32 := 8191#32
  let v2221 : BitVec 32 := Scalar.andi v2220 c8191_i32_930
  let c8_i32_931 : BitVec 32 := 8#32
  let v2222 : BitVec 32 := Scalar.muli v2221 c8_i32_931
  v2222

def k0_off913 (v2219 : BitVec 32) : Fin 2 → Nat :=
  let c3_i32_929 : BitVec 32 := 3#32
  let v2220 : BitVec 32 := Scalar.shrsi v2219 c3_i32_929
  let c8191_i32_930 : BitVec 32 := 8191#32
  let v2221 : BitVec 32 := Scalar.andi v2220 c8191_i32_930
  let c8_i32_931 : BitVec 32 := 8#32
  let v2222 : BitVec 32 := Scalar.muli v2221 c8_i32_931
  let v2223 : BitVec 32 := v2222
  let v2224 : Index := Scalar.indexCast v2223
  let c0_932 : Index := 0#32
  ![v2224.toNat, 0]
def k0_off914 (v2219 : BitVec 32) : Fin 2 → Nat :=
  let c3_i32_929 : BitVec 32 := 3#32
  let v2220 : BitVec 32 := Scalar.shrsi v2219 c3_i32_929
  let c8191_i32_930 : BitVec 32 := 8191#32
  let v2221 : BitVec 32 := Scalar.andi v2220 c8191_i32_930
  let v2229 : Index := Scalar.indexCast v2221
  let c0_934 : Index := 0#32
  ![v2229.toNat, 0]

def k0_chk386 (i : grid0.Coords) (v13 : BitVec 32) (v2219 : BitVec 32) : Prop :=
  (∀ (k0_h5 : k0_cond5 i v13 = 1#1), 8 ∣ (k0_mult383 v2219).toNat) ∧
  (∀ (k0_h5 : k0_cond5 i v13 = 1#1), ∀ a, (k0_off913 v2219) a + S8x128.size a ≤ S65536x128.size a) ∧
  (∀ (k0_h5 : k0_cond5 i v13 = 1#1), ∀ a, (k0_off914 v2219) a + S1x128.size a ≤ S8192x128.size a)
theorem k0_mult383_dvd : ∀ (i : grid0.Coords) (v13 : BitVec 32) (v2219 : BitVec 32) (k0_hw386 : k0_chk386 i v13 v2219), ∀ (k0_h5 : k0_cond5 i v13 = 1#1), 8 ∣ (k0_mult383 v2219).toNat := fun i v13 v2219 k0_hw386 k0_h5 => k0_hw386.1 k0_h5
theorem k0_off913_inb : ∀ (i : grid0.Coords) (v13 : BitVec 32) (v2219 : BitVec 32) (k0_hw386 : k0_chk386 i v13 v2219), ∀ (k0_h5 : k0_cond5 i v13 = 1#1), ∀ a, (k0_off913 v2219) a + S8x128.size a ≤ S65536x128.size a := fun i v13 v2219 k0_hw386 k0_h5 => k0_hw386.2.1 k0_h5
theorem k0_off914_inb : ∀ (i : grid0.Coords) (v13 : BitVec 32) (v2219 : BitVec 32) (k0_hw386 : k0_chk386 i v13 v2219), ∀ (k0_h5 : k0_cond5 i v13 = 1#1), ∀ a, (k0_off914 v2219) a + S1x128.size a ≤ S8192x128.size a := fun i v13 v2219 k0_hw386 k0_h5 => k0_hw386.2.2 k0_h5

def k0_off915 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c127_i32 : BitVec 32 := 127#32
  let v2234 : BitVec 32 := Scalar.addi v74 c127_i32
  let v2235 : Index := Scalar.indexCast v2234
  ![v2235.toNat]
def k0_mult384 (v2236 : BitVec 32) : BitVec 32 :=
  let c3_i32_936 : BitVec 32 := 3#32
  let v2237 : BitVec 32 := Scalar.shrsi v2236 c3_i32_936
  let c8191_i32_937 : BitVec 32 := 8191#32
  let v2238 : BitVec 32 := Scalar.andi v2237 c8191_i32_937
  let c8_i32_938 : BitVec 32 := 8#32
  let v2239 : BitVec 32 := Scalar.muli v2238 c8_i32_938
  v2239

def k0_off916 (v2236 : BitVec 32) : Fin 2 → Nat :=
  let c3_i32_936 : BitVec 32 := 3#32
  let v2237 : BitVec 32 := Scalar.shrsi v2236 c3_i32_936
  let c8191_i32_937 : BitVec 32 := 8191#32
  let v2238 : BitVec 32 := Scalar.andi v2237 c8191_i32_937
  let c8_i32_938 : BitVec 32 := 8#32
  let v2239 : BitVec 32 := Scalar.muli v2238 c8_i32_938
  let v2240 : BitVec 32 := v2239
  let v2241 : Index := Scalar.indexCast v2240
  let c0_939 : Index := 0#32
  ![v2241.toNat, 0]
def k0_off917 (v2236 : BitVec 32) : Fin 2 → Nat :=
  let c3_i32_936 : BitVec 32 := 3#32
  let v2237 : BitVec 32 := Scalar.shrsi v2236 c3_i32_936
  let c8191_i32_937 : BitVec 32 := 8191#32
  let v2238 : BitVec 32 := Scalar.andi v2237 c8191_i32_937
  let v2246 : Index := Scalar.indexCast v2238
  let c0_941 : Index := 0#32
  ![v2246.toNat, 0]

def k0_chk387 (i : grid0.Coords) (v13 : BitVec 32) (v2236 : BitVec 32) : Prop :=
  (∀ (k0_h5 : k0_cond5 i v13 = 1#1), 8 ∣ (k0_mult384 v2236).toNat) ∧
  (∀ (k0_h5 : k0_cond5 i v13 = 1#1), ∀ a, (k0_off916 v2236) a + S8x128.size a ≤ S65536x128.size a) ∧
  (∀ (k0_h5 : k0_cond5 i v13 = 1#1), ∀ a, (k0_off917 v2236) a + S1x128.size a ≤ S8192x128.size a)
theorem k0_mult384_dvd : ∀ (i : grid0.Coords) (v13 : BitVec 32) (v2236 : BitVec 32) (k0_hw387 : k0_chk387 i v13 v2236), ∀ (k0_h5 : k0_cond5 i v13 = 1#1), 8 ∣ (k0_mult384 v2236).toNat := fun i v13 v2236 k0_hw387 k0_h5 => k0_hw387.1 k0_h5
theorem k0_off916_inb : ∀ (i : grid0.Coords) (v13 : BitVec 32) (v2236 : BitVec 32) (k0_hw387 : k0_chk387 i v13 v2236), ∀ (k0_h5 : k0_cond5 i v13 = 1#1), ∀ a, (k0_off916 v2236) a + S8x128.size a ≤ S65536x128.size a := fun i v13 v2236 k0_hw387 k0_h5 => k0_hw387.2.1 k0_h5
theorem k0_off917_inb : ∀ (i : grid0.Coords) (v13 : BitVec 32) (v2236 : BitVec 32) (k0_hw387 : k0_chk387 i v13 v2236), ∀ (k0_h5 : k0_cond5 i v13 = 1#1), ∀ a, (k0_off917 v2236) a + S1x128.size a ≤ S8192x128.size a := fun i v13 v2236 k0_hw387 k0_h5 => k0_hw387.2.2 k0_h5

def k0_off918 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c128_i32 : BitVec 32 := 128#32
  let v2251 : BitVec 32 := Scalar.addi v74 c128_i32
  let v2252 : Index := Scalar.indexCast v2251
  ![v2252.toNat]
def k0_mult385 (v2253 : BitVec 32) : BitVec 32 :=
  let c3_i32_943 : BitVec 32 := 3#32
  let v2254 : BitVec 32 := Scalar.shrsi v2253 c3_i32_943
  let c8191_i32_944 : BitVec 32 := 8191#32
  let v2255 : BitVec 32 := Scalar.andi v2254 c8191_i32_944
  let c8_i32_945 : BitVec 32 := 8#32
  let v2256 : BitVec 32 := Scalar.muli v2255 c8_i32_945
  v2256

def k0_off919 (v2253 : BitVec 32) : Fin 2 → Nat :=
  let c3_i32_943 : BitVec 32 := 3#32
  let v2254 : BitVec 32 := Scalar.shrsi v2253 c3_i32_943
  let c8191_i32_944 : BitVec 32 := 8191#32
  let v2255 : BitVec 32 := Scalar.andi v2254 c8191_i32_944
  let c8_i32_945 : BitVec 32 := 8#32
  let v2256 : BitVec 32 := Scalar.muli v2255 c8_i32_945
  let v2257 : BitVec 32 := v2256
  let v2258 : Index := Scalar.indexCast v2257
  let c0_946 : Index := 0#32
  ![v2258.toNat, 0]
def k0_off920 (v2253 : BitVec 32) : Fin 2 → Nat :=
  let c3_i32_943 : BitVec 32 := 3#32
  let v2254 : BitVec 32 := Scalar.shrsi v2253 c3_i32_943
  let c8191_i32_944 : BitVec 32 := 8191#32
  let v2255 : BitVec 32 := Scalar.andi v2254 c8191_i32_944
  let v2263 : Index := Scalar.indexCast v2255
  let c0_948 : Index := 0#32
  ![v2263.toNat, 0]

def k0_chk388 (i : grid0.Coords) (v13 : BitVec 32) (v2253 : BitVec 32) : Prop :=
  (∀ (k0_h5 : k0_cond5 i v13 = 1#1), 8 ∣ (k0_mult385 v2253).toNat) ∧
  (∀ (k0_h5 : k0_cond5 i v13 = 1#1), ∀ a, (k0_off919 v2253) a + S8x128.size a ≤ S65536x128.size a) ∧
  (∀ (k0_h5 : k0_cond5 i v13 = 1#1), ∀ a, (k0_off920 v2253) a + S1x128.size a ≤ S8192x128.size a)
theorem k0_mult385_dvd : ∀ (i : grid0.Coords) (v13 : BitVec 32) (v2253 : BitVec 32) (k0_hw388 : k0_chk388 i v13 v2253), ∀ (k0_h5 : k0_cond5 i v13 = 1#1), 8 ∣ (k0_mult385 v2253).toNat := fun i v13 v2253 k0_hw388 k0_h5 => k0_hw388.1 k0_h5
theorem k0_off919_inb : ∀ (i : grid0.Coords) (v13 : BitVec 32) (v2253 : BitVec 32) (k0_hw388 : k0_chk388 i v13 v2253), ∀ (k0_h5 : k0_cond5 i v13 = 1#1), ∀ a, (k0_off919 v2253) a + S8x128.size a ≤ S65536x128.size a := fun i v13 v2253 k0_hw388 k0_h5 => k0_hw388.2.1 k0_h5
theorem k0_off920_inb : ∀ (i : grid0.Coords) (v13 : BitVec 32) (v2253 : BitVec 32) (k0_hw388 : k0_chk388 i v13 v2253), ∀ (k0_h5 : k0_cond5 i v13 = 1#1), ∀ a, (k0_off920 v2253) a + S1x128.size a ≤ S8192x128.size a := fun i v13 v2253 k0_hw388 k0_h5 => k0_hw388.2.2 k0_h5

def k0_off921 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c129_i32_951 : BitVec 32 := 129#32
  let v2268 : BitVec 32 := Scalar.addi v74 c129_i32_951
  let v2269 : Index := Scalar.indexCast v2268
  ![v2269.toNat]
def k0_mult386 (v2270 : BitVec 32) : BitVec 32 :=
  let c3_i32_952 : BitVec 32 := 3#32
  let v2271 : BitVec 32 := Scalar.shrsi v2270 c3_i32_952
  let c8191_i32_953 : BitVec 32 := 8191#32
  let v2272 : BitVec 32 := Scalar.andi v2271 c8191_i32_953
  let c8_i32_954 : BitVec 32 := 8#32
  let v2273 : BitVec 32 := Scalar.muli v2272 c8_i32_954
  v2273

def k0_off922 (v2270 : BitVec 32) : Fin 2 → Nat :=
  let c3_i32_952 : BitVec 32 := 3#32
  let v2271 : BitVec 32 := Scalar.shrsi v2270 c3_i32_952
  let c8191_i32_953 : BitVec 32 := 8191#32
  let v2272 : BitVec 32 := Scalar.andi v2271 c8191_i32_953
  let c8_i32_954 : BitVec 32 := 8#32
  let v2273 : BitVec 32 := Scalar.muli v2272 c8_i32_954
  let v2274 : BitVec 32 := v2273
  let v2275 : Index := Scalar.indexCast v2274
  let c0_955 : Index := 0#32
  ![v2275.toNat, 0]
def k0_off923 (v2270 : BitVec 32) : Fin 2 → Nat :=
  let c3_i32_952 : BitVec 32 := 3#32
  let v2271 : BitVec 32 := Scalar.shrsi v2270 c3_i32_952
  let c8191_i32_953 : BitVec 32 := 8191#32
  let v2272 : BitVec 32 := Scalar.andi v2271 c8191_i32_953
  let v2280 : Index := Scalar.indexCast v2272
  let c0_957 : Index := 0#32
  ![v2280.toNat, 0]

def k0_chk389 (i : grid0.Coords) (v13 : BitVec 32) (v2270 : BitVec 32) : Prop :=
  (∀ (k0_h5 : k0_cond5 i v13 = 1#1), 8 ∣ (k0_mult386 v2270).toNat) ∧
  (∀ (k0_h5 : k0_cond5 i v13 = 1#1), ∀ a, (k0_off922 v2270) a + S8x128.size a ≤ S65536x128.size a) ∧
  (∀ (k0_h5 : k0_cond5 i v13 = 1#1), ∀ a, (k0_off923 v2270) a + S1x128.size a ≤ S8192x128.size a)
theorem k0_mult386_dvd : ∀ (i : grid0.Coords) (v13 : BitVec 32) (v2270 : BitVec 32) (k0_hw389 : k0_chk389 i v13 v2270), ∀ (k0_h5 : k0_cond5 i v13 = 1#1), 8 ∣ (k0_mult386 v2270).toNat := fun i v13 v2270 k0_hw389 k0_h5 => k0_hw389.1 k0_h5
theorem k0_off922_inb : ∀ (i : grid0.Coords) (v13 : BitVec 32) (v2270 : BitVec 32) (k0_hw389 : k0_chk389 i v13 v2270), ∀ (k0_h5 : k0_cond5 i v13 = 1#1), ∀ a, (k0_off922 v2270) a + S8x128.size a ≤ S65536x128.size a := fun i v13 v2270 k0_hw389 k0_h5 => k0_hw389.2.1 k0_h5
theorem k0_off923_inb : ∀ (i : grid0.Coords) (v13 : BitVec 32) (v2270 : BitVec 32) (k0_hw389 : k0_chk389 i v13 v2270), ∀ (k0_h5 : k0_cond5 i v13 = 1#1), ∀ a, (k0_off923 v2270) a + S1x128.size a ≤ S8192x128.size a := fun i v13 v2270 k0_hw389 k0_h5 => k0_hw389.2.2 k0_h5

def k0_off924 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c130_i32 : BitVec 32 := 130#32
  let v2285 : BitVec 32 := Scalar.addi v74 c130_i32
  let v2286 : Index := Scalar.indexCast v2285
  ![v2286.toNat]
def k0_mult387 (v2287 : BitVec 32) : BitVec 32 :=
  let c3_i32_959 : BitVec 32 := 3#32
  let v2288 : BitVec 32 := Scalar.shrsi v2287 c3_i32_959
  let c8191_i32_960 : BitVec 32 := 8191#32
  let v2289 : BitVec 32 := Scalar.andi v2288 c8191_i32_960
  let c8_i32_961 : BitVec 32 := 8#32
  let v2290 : BitVec 32 := Scalar.muli v2289 c8_i32_961
  v2290

def k0_off925 (v2287 : BitVec 32) : Fin 2 → Nat :=
  let c3_i32_959 : BitVec 32 := 3#32
  let v2288 : BitVec 32 := Scalar.shrsi v2287 c3_i32_959
  let c8191_i32_960 : BitVec 32 := 8191#32
  let v2289 : BitVec 32 := Scalar.andi v2288 c8191_i32_960
  let c8_i32_961 : BitVec 32 := 8#32
  let v2290 : BitVec 32 := Scalar.muli v2289 c8_i32_961
  let v2291 : BitVec 32 := v2290
  let v2292 : Index := Scalar.indexCast v2291
  let c0_962 : Index := 0#32
  ![v2292.toNat, 0]
def k0_off926 (v2287 : BitVec 32) : Fin 2 → Nat :=
  let c3_i32_959 : BitVec 32 := 3#32
  let v2288 : BitVec 32 := Scalar.shrsi v2287 c3_i32_959
  let c8191_i32_960 : BitVec 32 := 8191#32
  let v2289 : BitVec 32 := Scalar.andi v2288 c8191_i32_960
  let v2297 : Index := Scalar.indexCast v2289
  let c0_964 : Index := 0#32
  ![v2297.toNat, 0]

def k0_chk390 (i : grid0.Coords) (v13 : BitVec 32) (v2287 : BitVec 32) : Prop :=
  (∀ (k0_h5 : k0_cond5 i v13 = 1#1), 8 ∣ (k0_mult387 v2287).toNat) ∧
  (∀ (k0_h5 : k0_cond5 i v13 = 1#1), ∀ a, (k0_off925 v2287) a + S8x128.size a ≤ S65536x128.size a) ∧
  (∀ (k0_h5 : k0_cond5 i v13 = 1#1), ∀ a, (k0_off926 v2287) a + S1x128.size a ≤ S8192x128.size a)
theorem k0_mult387_dvd : ∀ (i : grid0.Coords) (v13 : BitVec 32) (v2287 : BitVec 32) (k0_hw390 : k0_chk390 i v13 v2287), ∀ (k0_h5 : k0_cond5 i v13 = 1#1), 8 ∣ (k0_mult387 v2287).toNat := fun i v13 v2287 k0_hw390 k0_h5 => k0_hw390.1 k0_h5
theorem k0_off925_inb : ∀ (i : grid0.Coords) (v13 : BitVec 32) (v2287 : BitVec 32) (k0_hw390 : k0_chk390 i v13 v2287), ∀ (k0_h5 : k0_cond5 i v13 = 1#1), ∀ a, (k0_off925 v2287) a + S8x128.size a ≤ S65536x128.size a := fun i v13 v2287 k0_hw390 k0_h5 => k0_hw390.2.1 k0_h5
theorem k0_off926_inb : ∀ (i : grid0.Coords) (v13 : BitVec 32) (v2287 : BitVec 32) (k0_hw390 : k0_chk390 i v13 v2287), ∀ (k0_h5 : k0_cond5 i v13 = 1#1), ∀ a, (k0_off926 v2287) a + S1x128.size a ≤ S8192x128.size a := fun i v13 v2287 k0_hw390 k0_h5 => k0_hw390.2.2 k0_h5

def k0_off927 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c131_i32 : BitVec 32 := 131#32
  let v2302 : BitVec 32 := Scalar.addi v74 c131_i32
  let v2303 : Index := Scalar.indexCast v2302
  ![v2303.toNat]
def k0_mult388 (v2304 : BitVec 32) : BitVec 32 :=
  let c3_i32_966 : BitVec 32 := 3#32
  let v2305 : BitVec 32 := Scalar.shrsi v2304 c3_i32_966
  let c8191_i32_967 : BitVec 32 := 8191#32
  let v2306 : BitVec 32 := Scalar.andi v2305 c8191_i32_967
  let c8_i32_968 : BitVec 32 := 8#32
  let v2307 : BitVec 32 := Scalar.muli v2306 c8_i32_968
  v2307

def k0_off928 (v2304 : BitVec 32) : Fin 2 → Nat :=
  let c3_i32_966 : BitVec 32 := 3#32
  let v2305 : BitVec 32 := Scalar.shrsi v2304 c3_i32_966
  let c8191_i32_967 : BitVec 32 := 8191#32
  let v2306 : BitVec 32 := Scalar.andi v2305 c8191_i32_967
  let c8_i32_968 : BitVec 32 := 8#32
  let v2307 : BitVec 32 := Scalar.muli v2306 c8_i32_968
  let v2308 : BitVec 32 := v2307
  let v2309 : Index := Scalar.indexCast v2308
  let c0_969 : Index := 0#32
  ![v2309.toNat, 0]
def k0_off929 (v2304 : BitVec 32) : Fin 2 → Nat :=
  let c3_i32_966 : BitVec 32 := 3#32
  let v2305 : BitVec 32 := Scalar.shrsi v2304 c3_i32_966
  let c8191_i32_967 : BitVec 32 := 8191#32
  let v2306 : BitVec 32 := Scalar.andi v2305 c8191_i32_967
  let v2314 : Index := Scalar.indexCast v2306
  let c0_971 : Index := 0#32
  ![v2314.toNat, 0]

def k0_chk391 (i : grid0.Coords) (v13 : BitVec 32) (v2304 : BitVec 32) : Prop :=
  (∀ (k0_h5 : k0_cond5 i v13 = 1#1), 8 ∣ (k0_mult388 v2304).toNat) ∧
  (∀ (k0_h5 : k0_cond5 i v13 = 1#1), ∀ a, (k0_off928 v2304) a + S8x128.size a ≤ S65536x128.size a) ∧
  (∀ (k0_h5 : k0_cond5 i v13 = 1#1), ∀ a, (k0_off929 v2304) a + S1x128.size a ≤ S8192x128.size a)
theorem k0_mult388_dvd : ∀ (i : grid0.Coords) (v13 : BitVec 32) (v2304 : BitVec 32) (k0_hw391 : k0_chk391 i v13 v2304), ∀ (k0_h5 : k0_cond5 i v13 = 1#1), 8 ∣ (k0_mult388 v2304).toNat := fun i v13 v2304 k0_hw391 k0_h5 => k0_hw391.1 k0_h5
theorem k0_off928_inb : ∀ (i : grid0.Coords) (v13 : BitVec 32) (v2304 : BitVec 32) (k0_hw391 : k0_chk391 i v13 v2304), ∀ (k0_h5 : k0_cond5 i v13 = 1#1), ∀ a, (k0_off928 v2304) a + S8x128.size a ≤ S65536x128.size a := fun i v13 v2304 k0_hw391 k0_h5 => k0_hw391.2.1 k0_h5
theorem k0_off929_inb : ∀ (i : grid0.Coords) (v13 : BitVec 32) (v2304 : BitVec 32) (k0_hw391 : k0_chk391 i v13 v2304), ∀ (k0_h5 : k0_cond5 i v13 = 1#1), ∀ a, (k0_off929 v2304) a + S1x128.size a ≤ S8192x128.size a := fun i v13 v2304 k0_hw391 k0_h5 => k0_hw391.2.2 k0_h5

def k0_off930 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c132_i32 : BitVec 32 := 132#32
  let v2319 : BitVec 32 := Scalar.addi v74 c132_i32
  let v2320 : Index := Scalar.indexCast v2319
  ![v2320.toNat]
def k0_mult389 (v2321 : BitVec 32) : BitVec 32 :=
  let c3_i32_973 : BitVec 32 := 3#32
  let v2322 : BitVec 32 := Scalar.shrsi v2321 c3_i32_973
  let c8191_i32_974 : BitVec 32 := 8191#32
  let v2323 : BitVec 32 := Scalar.andi v2322 c8191_i32_974
  let c8_i32_975 : BitVec 32 := 8#32
  let v2324 : BitVec 32 := Scalar.muli v2323 c8_i32_975
  v2324

def k0_off931 (v2321 : BitVec 32) : Fin 2 → Nat :=
  let c3_i32_973 : BitVec 32 := 3#32
  let v2322 : BitVec 32 := Scalar.shrsi v2321 c3_i32_973
  let c8191_i32_974 : BitVec 32 := 8191#32
  let v2323 : BitVec 32 := Scalar.andi v2322 c8191_i32_974
  let c8_i32_975 : BitVec 32 := 8#32
  let v2324 : BitVec 32 := Scalar.muli v2323 c8_i32_975
  let v2325 : BitVec 32 := v2324
  let v2326 : Index := Scalar.indexCast v2325
  let c0_976 : Index := 0#32
  ![v2326.toNat, 0]
def k0_off932 (v2321 : BitVec 32) : Fin 2 → Nat :=
  let c3_i32_973 : BitVec 32 := 3#32
  let v2322 : BitVec 32 := Scalar.shrsi v2321 c3_i32_973
  let c8191_i32_974 : BitVec 32 := 8191#32
  let v2323 : BitVec 32 := Scalar.andi v2322 c8191_i32_974
  let v2331 : Index := Scalar.indexCast v2323
  let c0_978 : Index := 0#32
  ![v2331.toNat, 0]

def k0_chk392 (i : grid0.Coords) (v13 : BitVec 32) (v2321 : BitVec 32) : Prop :=
  (∀ (k0_h5 : k0_cond5 i v13 = 1#1), 8 ∣ (k0_mult389 v2321).toNat) ∧
  (∀ (k0_h5 : k0_cond5 i v13 = 1#1), ∀ a, (k0_off931 v2321) a + S8x128.size a ≤ S65536x128.size a) ∧
  (∀ (k0_h5 : k0_cond5 i v13 = 1#1), ∀ a, (k0_off932 v2321) a + S1x128.size a ≤ S8192x128.size a)
theorem k0_mult389_dvd : ∀ (i : grid0.Coords) (v13 : BitVec 32) (v2321 : BitVec 32) (k0_hw392 : k0_chk392 i v13 v2321), ∀ (k0_h5 : k0_cond5 i v13 = 1#1), 8 ∣ (k0_mult389 v2321).toNat := fun i v13 v2321 k0_hw392 k0_h5 => k0_hw392.1 k0_h5
theorem k0_off931_inb : ∀ (i : grid0.Coords) (v13 : BitVec 32) (v2321 : BitVec 32) (k0_hw392 : k0_chk392 i v13 v2321), ∀ (k0_h5 : k0_cond5 i v13 = 1#1), ∀ a, (k0_off931 v2321) a + S8x128.size a ≤ S65536x128.size a := fun i v13 v2321 k0_hw392 k0_h5 => k0_hw392.2.1 k0_h5
theorem k0_off932_inb : ∀ (i : grid0.Coords) (v13 : BitVec 32) (v2321 : BitVec 32) (k0_hw392 : k0_chk392 i v13 v2321), ∀ (k0_h5 : k0_cond5 i v13 = 1#1), ∀ a, (k0_off932 v2321) a + S1x128.size a ≤ S8192x128.size a := fun i v13 v2321 k0_hw392 k0_h5 => k0_hw392.2.2 k0_h5

def k0_off933 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c133_i32 : BitVec 32 := 133#32
  let v2336 : BitVec 32 := Scalar.addi v74 c133_i32
  let v2337 : Index := Scalar.indexCast v2336
  ![v2337.toNat]
def k0_mult390 (v2338 : BitVec 32) : BitVec 32 :=
  let c3_i32_980 : BitVec 32 := 3#32
  let v2339 : BitVec 32 := Scalar.shrsi v2338 c3_i32_980
  let c8191_i32_981 : BitVec 32 := 8191#32
  let v2340 : BitVec 32 := Scalar.andi v2339 c8191_i32_981
  let c8_i32_982 : BitVec 32 := 8#32
  let v2341 : BitVec 32 := Scalar.muli v2340 c8_i32_982
  v2341

def k0_off934 (v2338 : BitVec 32) : Fin 2 → Nat :=
  let c3_i32_980 : BitVec 32 := 3#32
  let v2339 : BitVec 32 := Scalar.shrsi v2338 c3_i32_980
  let c8191_i32_981 : BitVec 32 := 8191#32
  let v2340 : BitVec 32 := Scalar.andi v2339 c8191_i32_981
  let c8_i32_982 : BitVec 32 := 8#32
  let v2341 : BitVec 32 := Scalar.muli v2340 c8_i32_982
  let v2342 : BitVec 32 := v2341
  let v2343 : Index := Scalar.indexCast v2342
  let c0_983 : Index := 0#32
  ![v2343.toNat, 0]
def k0_off935 (v2338 : BitVec 32) : Fin 2 → Nat :=
  let c3_i32_980 : BitVec 32 := 3#32
  let v2339 : BitVec 32 := Scalar.shrsi v2338 c3_i32_980
  let c8191_i32_981 : BitVec 32 := 8191#32
  let v2340 : BitVec 32 := Scalar.andi v2339 c8191_i32_981
  let v2348 : Index := Scalar.indexCast v2340
  let c0_985 : Index := 0#32
  ![v2348.toNat, 0]

def k0_chk393 (i : grid0.Coords) (v13 : BitVec 32) (v2338 : BitVec 32) : Prop :=
  (∀ (k0_h5 : k0_cond5 i v13 = 1#1), 8 ∣ (k0_mult390 v2338).toNat) ∧
  (∀ (k0_h5 : k0_cond5 i v13 = 1#1), ∀ a, (k0_off934 v2338) a + S8x128.size a ≤ S65536x128.size a) ∧
  (∀ (k0_h5 : k0_cond5 i v13 = 1#1), ∀ a, (k0_off935 v2338) a + S1x128.size a ≤ S8192x128.size a)
theorem k0_mult390_dvd : ∀ (i : grid0.Coords) (v13 : BitVec 32) (v2338 : BitVec 32) (k0_hw393 : k0_chk393 i v13 v2338), ∀ (k0_h5 : k0_cond5 i v13 = 1#1), 8 ∣ (k0_mult390 v2338).toNat := fun i v13 v2338 k0_hw393 k0_h5 => k0_hw393.1 k0_h5
theorem k0_off934_inb : ∀ (i : grid0.Coords) (v13 : BitVec 32) (v2338 : BitVec 32) (k0_hw393 : k0_chk393 i v13 v2338), ∀ (k0_h5 : k0_cond5 i v13 = 1#1), ∀ a, (k0_off934 v2338) a + S8x128.size a ≤ S65536x128.size a := fun i v13 v2338 k0_hw393 k0_h5 => k0_hw393.2.1 k0_h5
theorem k0_off935_inb : ∀ (i : grid0.Coords) (v13 : BitVec 32) (v2338 : BitVec 32) (k0_hw393 : k0_chk393 i v13 v2338), ∀ (k0_h5 : k0_cond5 i v13 = 1#1), ∀ a, (k0_off935 v2338) a + S1x128.size a ≤ S8192x128.size a := fun i v13 v2338 k0_hw393 k0_h5 => k0_hw393.2.2 k0_h5

def k0_off936 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c134_i32 : BitVec 32 := 134#32
  let v2353 : BitVec 32 := Scalar.addi v74 c134_i32
  let v2354 : Index := Scalar.indexCast v2353
  ![v2354.toNat]
def k0_mult391 (v2355 : BitVec 32) : BitVec 32 :=
  let c3_i32_987 : BitVec 32 := 3#32
  let v2356 : BitVec 32 := Scalar.shrsi v2355 c3_i32_987
  let c8191_i32_988 : BitVec 32 := 8191#32
  let v2357 : BitVec 32 := Scalar.andi v2356 c8191_i32_988
  let c8_i32_989 : BitVec 32 := 8#32
  let v2358 : BitVec 32 := Scalar.muli v2357 c8_i32_989
  v2358

def k0_off937 (v2355 : BitVec 32) : Fin 2 → Nat :=
  let c3_i32_987 : BitVec 32 := 3#32
  let v2356 : BitVec 32 := Scalar.shrsi v2355 c3_i32_987
  let c8191_i32_988 : BitVec 32 := 8191#32
  let v2357 : BitVec 32 := Scalar.andi v2356 c8191_i32_988
  let c8_i32_989 : BitVec 32 := 8#32
  let v2358 : BitVec 32 := Scalar.muli v2357 c8_i32_989
  let v2359 : BitVec 32 := v2358
  let v2360 : Index := Scalar.indexCast v2359
  let c0_990 : Index := 0#32
  ![v2360.toNat, 0]
def k0_off938 (v2355 : BitVec 32) : Fin 2 → Nat :=
  let c3_i32_987 : BitVec 32 := 3#32
  let v2356 : BitVec 32 := Scalar.shrsi v2355 c3_i32_987
  let c8191_i32_988 : BitVec 32 := 8191#32
  let v2357 : BitVec 32 := Scalar.andi v2356 c8191_i32_988
  let v2365 : Index := Scalar.indexCast v2357
  let c0_992 : Index := 0#32
  ![v2365.toNat, 0]

def k0_chk394 (i : grid0.Coords) (v13 : BitVec 32) (v2355 : BitVec 32) : Prop :=
  (∀ (k0_h5 : k0_cond5 i v13 = 1#1), 8 ∣ (k0_mult391 v2355).toNat) ∧
  (∀ (k0_h5 : k0_cond5 i v13 = 1#1), ∀ a, (k0_off937 v2355) a + S8x128.size a ≤ S65536x128.size a) ∧
  (∀ (k0_h5 : k0_cond5 i v13 = 1#1), ∀ a, (k0_off938 v2355) a + S1x128.size a ≤ S8192x128.size a)
theorem k0_mult391_dvd : ∀ (i : grid0.Coords) (v13 : BitVec 32) (v2355 : BitVec 32) (k0_hw394 : k0_chk394 i v13 v2355), ∀ (k0_h5 : k0_cond5 i v13 = 1#1), 8 ∣ (k0_mult391 v2355).toNat := fun i v13 v2355 k0_hw394 k0_h5 => k0_hw394.1 k0_h5
theorem k0_off937_inb : ∀ (i : grid0.Coords) (v13 : BitVec 32) (v2355 : BitVec 32) (k0_hw394 : k0_chk394 i v13 v2355), ∀ (k0_h5 : k0_cond5 i v13 = 1#1), ∀ a, (k0_off937 v2355) a + S8x128.size a ≤ S65536x128.size a := fun i v13 v2355 k0_hw394 k0_h5 => k0_hw394.2.1 k0_h5
theorem k0_off938_inb : ∀ (i : grid0.Coords) (v13 : BitVec 32) (v2355 : BitVec 32) (k0_hw394 : k0_chk394 i v13 v2355), ∀ (k0_h5 : k0_cond5 i v13 = 1#1), ∀ a, (k0_off938 v2355) a + S1x128.size a ≤ S8192x128.size a := fun i v13 v2355 k0_hw394 k0_h5 => k0_hw394.2.2 k0_h5

def k0_off939 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c135_i32 : BitVec 32 := 135#32
  let v2370 : BitVec 32 := Scalar.addi v74 c135_i32
  let v2371 : Index := Scalar.indexCast v2370
  ![v2371.toNat]
def k0_mult392 (v2372 : BitVec 32) : BitVec 32 :=
  let c3_i32_994 : BitVec 32 := 3#32
  let v2373 : BitVec 32 := Scalar.shrsi v2372 c3_i32_994
  let c8191_i32_995 : BitVec 32 := 8191#32
  let v2374 : BitVec 32 := Scalar.andi v2373 c8191_i32_995
  let c8_i32_996 : BitVec 32 := 8#32
  let v2375 : BitVec 32 := Scalar.muli v2374 c8_i32_996
  v2375

def k0_off940 (v2372 : BitVec 32) : Fin 2 → Nat :=
  let c3_i32_994 : BitVec 32 := 3#32
  let v2373 : BitVec 32 := Scalar.shrsi v2372 c3_i32_994
  let c8191_i32_995 : BitVec 32 := 8191#32
  let v2374 : BitVec 32 := Scalar.andi v2373 c8191_i32_995
  let c8_i32_996 : BitVec 32 := 8#32
  let v2375 : BitVec 32 := Scalar.muli v2374 c8_i32_996
  let v2376 : BitVec 32 := v2375
  let v2377 : Index := Scalar.indexCast v2376
  let c0_997 : Index := 0#32
  ![v2377.toNat, 0]
def k0_off941 (v2372 : BitVec 32) : Fin 2 → Nat :=
  let c3_i32_994 : BitVec 32 := 3#32
  let v2373 : BitVec 32 := Scalar.shrsi v2372 c3_i32_994
  let c8191_i32_995 : BitVec 32 := 8191#32
  let v2374 : BitVec 32 := Scalar.andi v2373 c8191_i32_995
  let v2382 : Index := Scalar.indexCast v2374
  let c0_999 : Index := 0#32
  ![v2382.toNat, 0]

def k0_chk395 (i : grid0.Coords) (v13 : BitVec 32) (v2372 : BitVec 32) : Prop :=
  (∀ (k0_h5 : k0_cond5 i v13 = 1#1), 8 ∣ (k0_mult392 v2372).toNat) ∧
  (∀ (k0_h5 : k0_cond5 i v13 = 1#1), ∀ a, (k0_off940 v2372) a + S8x128.size a ≤ S65536x128.size a) ∧
  (∀ (k0_h5 : k0_cond5 i v13 = 1#1), ∀ a, (k0_off941 v2372) a + S1x128.size a ≤ S8192x128.size a)
theorem k0_mult392_dvd : ∀ (i : grid0.Coords) (v13 : BitVec 32) (v2372 : BitVec 32) (k0_hw395 : k0_chk395 i v13 v2372), ∀ (k0_h5 : k0_cond5 i v13 = 1#1), 8 ∣ (k0_mult392 v2372).toNat := fun i v13 v2372 k0_hw395 k0_h5 => k0_hw395.1 k0_h5
theorem k0_off940_inb : ∀ (i : grid0.Coords) (v13 : BitVec 32) (v2372 : BitVec 32) (k0_hw395 : k0_chk395 i v13 v2372), ∀ (k0_h5 : k0_cond5 i v13 = 1#1), ∀ a, (k0_off940 v2372) a + S8x128.size a ≤ S65536x128.size a := fun i v13 v2372 k0_hw395 k0_h5 => k0_hw395.2.1 k0_h5
theorem k0_off941_inb : ∀ (i : grid0.Coords) (v13 : BitVec 32) (v2372 : BitVec 32) (k0_hw395 : k0_chk395 i v13 v2372), ∀ (k0_h5 : k0_cond5 i v13 = 1#1), ∀ a, (k0_off941 v2372) a + S1x128.size a ≤ S8192x128.size a := fun i v13 v2372 k0_hw395 k0_h5 => k0_hw395.2.2 k0_h5

def k0_off942 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c136_i32 : BitVec 32 := 136#32
  let v2387 : BitVec 32 := Scalar.addi v74 c136_i32
  let v2388 : Index := Scalar.indexCast v2387
  ![v2388.toNat]
def k0_mult393 (v2389 : BitVec 32) : BitVec 32 :=
  let c3_i32_1001 : BitVec 32 := 3#32
  let v2390 : BitVec 32 := Scalar.shrsi v2389 c3_i32_1001
  let c8191_i32_1002 : BitVec 32 := 8191#32
  let v2391 : BitVec 32 := Scalar.andi v2390 c8191_i32_1002
  let c8_i32_1003 : BitVec 32 := 8#32
  let v2392 : BitVec 32 := Scalar.muli v2391 c8_i32_1003
  v2392

def k0_off943 (v2389 : BitVec 32) : Fin 2 → Nat :=
  let c3_i32_1001 : BitVec 32 := 3#32
  let v2390 : BitVec 32 := Scalar.shrsi v2389 c3_i32_1001
  let c8191_i32_1002 : BitVec 32 := 8191#32
  let v2391 : BitVec 32 := Scalar.andi v2390 c8191_i32_1002
  let c8_i32_1003 : BitVec 32 := 8#32
  let v2392 : BitVec 32 := Scalar.muli v2391 c8_i32_1003
  let v2393 : BitVec 32 := v2392
  let v2394 : Index := Scalar.indexCast v2393
  let c0_1004 : Index := 0#32
  ![v2394.toNat, 0]
def k0_off944 (v2389 : BitVec 32) : Fin 2 → Nat :=
  let c3_i32_1001 : BitVec 32 := 3#32
  let v2390 : BitVec 32 := Scalar.shrsi v2389 c3_i32_1001
  let c8191_i32_1002 : BitVec 32 := 8191#32
  let v2391 : BitVec 32 := Scalar.andi v2390 c8191_i32_1002
  let v2399 : Index := Scalar.indexCast v2391
  let c0_1006 : Index := 0#32
  ![v2399.toNat, 0]

def k0_chk396 (i : grid0.Coords) (v13 : BitVec 32) (v2389 : BitVec 32) : Prop :=
  (∀ (k0_h5 : k0_cond5 i v13 = 1#1), 8 ∣ (k0_mult393 v2389).toNat) ∧
  (∀ (k0_h5 : k0_cond5 i v13 = 1#1), ∀ a, (k0_off943 v2389) a + S8x128.size a ≤ S65536x128.size a) ∧
  (∀ (k0_h5 : k0_cond5 i v13 = 1#1), ∀ a, (k0_off944 v2389) a + S1x128.size a ≤ S8192x128.size a)
theorem k0_mult393_dvd : ∀ (i : grid0.Coords) (v13 : BitVec 32) (v2389 : BitVec 32) (k0_hw396 : k0_chk396 i v13 v2389), ∀ (k0_h5 : k0_cond5 i v13 = 1#1), 8 ∣ (k0_mult393 v2389).toNat := fun i v13 v2389 k0_hw396 k0_h5 => k0_hw396.1 k0_h5
theorem k0_off943_inb : ∀ (i : grid0.Coords) (v13 : BitVec 32) (v2389 : BitVec 32) (k0_hw396 : k0_chk396 i v13 v2389), ∀ (k0_h5 : k0_cond5 i v13 = 1#1), ∀ a, (k0_off943 v2389) a + S8x128.size a ≤ S65536x128.size a := fun i v13 v2389 k0_hw396 k0_h5 => k0_hw396.2.1 k0_h5
theorem k0_off944_inb : ∀ (i : grid0.Coords) (v13 : BitVec 32) (v2389 : BitVec 32) (k0_hw396 : k0_chk396 i v13 v2389), ∀ (k0_h5 : k0_cond5 i v13 = 1#1), ∀ a, (k0_off944 v2389) a + S1x128.size a ≤ S8192x128.size a := fun i v13 v2389 k0_hw396 k0_h5 => k0_hw396.2.2 k0_h5

def k0_off945 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c137_i32 : BitVec 32 := 137#32
  let v2404 : BitVec 32 := Scalar.addi v74 c137_i32
  let v2405 : Index := Scalar.indexCast v2404
  ![v2405.toNat]
def k0_mult394 (v2406 : BitVec 32) : BitVec 32 :=
  let c3_i32_1009 : BitVec 32 := 3#32
  let v2407 : BitVec 32 := Scalar.shrsi v2406 c3_i32_1009
  let c8191_i32_1010 : BitVec 32 := 8191#32
  let v2408 : BitVec 32 := Scalar.andi v2407 c8191_i32_1010
  let c8_i32_1011 : BitVec 32 := 8#32
  let v2409 : BitVec 32 := Scalar.muli v2408 c8_i32_1011
  v2409

def k0_off946 (v2406 : BitVec 32) : Fin 2 → Nat :=
  let c3_i32_1009 : BitVec 32 := 3#32
  let v2407 : BitVec 32 := Scalar.shrsi v2406 c3_i32_1009
  let c8191_i32_1010 : BitVec 32 := 8191#32
  let v2408 : BitVec 32 := Scalar.andi v2407 c8191_i32_1010
  let c8_i32_1011 : BitVec 32 := 8#32
  let v2409 : BitVec 32 := Scalar.muli v2408 c8_i32_1011
  let v2410 : BitVec 32 := v2409
  let v2411 : Index := Scalar.indexCast v2410
  let c0_1012 : Index := 0#32
  ![v2411.toNat, 0]
def k0_off947 (v2406 : BitVec 32) : Fin 2 → Nat :=
  let c3_i32_1009 : BitVec 32 := 3#32
  let v2407 : BitVec 32 := Scalar.shrsi v2406 c3_i32_1009
  let c8191_i32_1010 : BitVec 32 := 8191#32
  let v2408 : BitVec 32 := Scalar.andi v2407 c8191_i32_1010
  let v2416 : Index := Scalar.indexCast v2408
  let c0_1014 : Index := 0#32
  ![v2416.toNat, 0]

def k0_chk397 (i : grid0.Coords) (v13 : BitVec 32) (v2406 : BitVec 32) : Prop :=
  (∀ (k0_h5 : k0_cond5 i v13 = 1#1), 8 ∣ (k0_mult394 v2406).toNat) ∧
  (∀ (k0_h5 : k0_cond5 i v13 = 1#1), ∀ a, (k0_off946 v2406) a + S8x128.size a ≤ S65536x128.size a) ∧
  (∀ (k0_h5 : k0_cond5 i v13 = 1#1), ∀ a, (k0_off947 v2406) a + S1x128.size a ≤ S8192x128.size a)
theorem k0_mult394_dvd : ∀ (i : grid0.Coords) (v13 : BitVec 32) (v2406 : BitVec 32) (k0_hw397 : k0_chk397 i v13 v2406), ∀ (k0_h5 : k0_cond5 i v13 = 1#1), 8 ∣ (k0_mult394 v2406).toNat := fun i v13 v2406 k0_hw397 k0_h5 => k0_hw397.1 k0_h5
theorem k0_off946_inb : ∀ (i : grid0.Coords) (v13 : BitVec 32) (v2406 : BitVec 32) (k0_hw397 : k0_chk397 i v13 v2406), ∀ (k0_h5 : k0_cond5 i v13 = 1#1), ∀ a, (k0_off946 v2406) a + S8x128.size a ≤ S65536x128.size a := fun i v13 v2406 k0_hw397 k0_h5 => k0_hw397.2.1 k0_h5
theorem k0_off947_inb : ∀ (i : grid0.Coords) (v13 : BitVec 32) (v2406 : BitVec 32) (k0_hw397 : k0_chk397 i v13 v2406), ∀ (k0_h5 : k0_cond5 i v13 = 1#1), ∀ a, (k0_off947 v2406) a + S1x128.size a ≤ S8192x128.size a := fun i v13 v2406 k0_hw397 k0_h5 => k0_hw397.2.2 k0_h5

def k0_off948 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c138_i32 : BitVec 32 := 138#32
  let v2421 : BitVec 32 := Scalar.addi v74 c138_i32
  let v2422 : Index := Scalar.indexCast v2421
  ![v2422.toNat]
def k0_mult395 (v2423 : BitVec 32) : BitVec 32 :=
  let c3_i32_1016 : BitVec 32 := 3#32
  let v2424 : BitVec 32 := Scalar.shrsi v2423 c3_i32_1016
  let c8191_i32_1017 : BitVec 32 := 8191#32
  let v2425 : BitVec 32 := Scalar.andi v2424 c8191_i32_1017
  let c8_i32_1018 : BitVec 32 := 8#32
  let v2426 : BitVec 32 := Scalar.muli v2425 c8_i32_1018
  v2426

def k0_off949 (v2423 : BitVec 32) : Fin 2 → Nat :=
  let c3_i32_1016 : BitVec 32 := 3#32
  let v2424 : BitVec 32 := Scalar.shrsi v2423 c3_i32_1016
  let c8191_i32_1017 : BitVec 32 := 8191#32
  let v2425 : BitVec 32 := Scalar.andi v2424 c8191_i32_1017
  let c8_i32_1018 : BitVec 32 := 8#32
  let v2426 : BitVec 32 := Scalar.muli v2425 c8_i32_1018
  let v2427 : BitVec 32 := v2426
  let v2428 : Index := Scalar.indexCast v2427
  let c0_1019 : Index := 0#32
  ![v2428.toNat, 0]
def k0_off950 (v2423 : BitVec 32) : Fin 2 → Nat :=
  let c3_i32_1016 : BitVec 32 := 3#32
  let v2424 : BitVec 32 := Scalar.shrsi v2423 c3_i32_1016
  let c8191_i32_1017 : BitVec 32 := 8191#32
  let v2425 : BitVec 32 := Scalar.andi v2424 c8191_i32_1017
  let v2433 : Index := Scalar.indexCast v2425
  let c0_1021 : Index := 0#32
  ![v2433.toNat, 0]

def k0_chk398 (i : grid0.Coords) (v13 : BitVec 32) (v2423 : BitVec 32) : Prop :=
  (∀ (k0_h5 : k0_cond5 i v13 = 1#1), 8 ∣ (k0_mult395 v2423).toNat) ∧
  (∀ (k0_h5 : k0_cond5 i v13 = 1#1), ∀ a, (k0_off949 v2423) a + S8x128.size a ≤ S65536x128.size a) ∧
  (∀ (k0_h5 : k0_cond5 i v13 = 1#1), ∀ a, (k0_off950 v2423) a + S1x128.size a ≤ S8192x128.size a)
theorem k0_mult395_dvd : ∀ (i : grid0.Coords) (v13 : BitVec 32) (v2423 : BitVec 32) (k0_hw398 : k0_chk398 i v13 v2423), ∀ (k0_h5 : k0_cond5 i v13 = 1#1), 8 ∣ (k0_mult395 v2423).toNat := fun i v13 v2423 k0_hw398 k0_h5 => k0_hw398.1 k0_h5
theorem k0_off949_inb : ∀ (i : grid0.Coords) (v13 : BitVec 32) (v2423 : BitVec 32) (k0_hw398 : k0_chk398 i v13 v2423), ∀ (k0_h5 : k0_cond5 i v13 = 1#1), ∀ a, (k0_off949 v2423) a + S8x128.size a ≤ S65536x128.size a := fun i v13 v2423 k0_hw398 k0_h5 => k0_hw398.2.1 k0_h5
theorem k0_off950_inb : ∀ (i : grid0.Coords) (v13 : BitVec 32) (v2423 : BitVec 32) (k0_hw398 : k0_chk398 i v13 v2423), ∀ (k0_h5 : k0_cond5 i v13 = 1#1), ∀ a, (k0_off950 v2423) a + S1x128.size a ≤ S8192x128.size a := fun i v13 v2423 k0_hw398 k0_h5 => k0_hw398.2.2 k0_h5

def k0_off951 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c139_i32 : BitVec 32 := 139#32
  let v2438 : BitVec 32 := Scalar.addi v74 c139_i32
  let v2439 : Index := Scalar.indexCast v2438
  ![v2439.toNat]
def k0_mult396 (v2440 : BitVec 32) : BitVec 32 :=
  let c3_i32_1023 : BitVec 32 := 3#32
  let v2441 : BitVec 32 := Scalar.shrsi v2440 c3_i32_1023
  let c8191_i32_1024 : BitVec 32 := 8191#32
  let v2442 : BitVec 32 := Scalar.andi v2441 c8191_i32_1024
  let c8_i32_1025 : BitVec 32 := 8#32
  let v2443 : BitVec 32 := Scalar.muli v2442 c8_i32_1025
  v2443

def k0_off952 (v2440 : BitVec 32) : Fin 2 → Nat :=
  let c3_i32_1023 : BitVec 32 := 3#32
  let v2441 : BitVec 32 := Scalar.shrsi v2440 c3_i32_1023
  let c8191_i32_1024 : BitVec 32 := 8191#32
  let v2442 : BitVec 32 := Scalar.andi v2441 c8191_i32_1024
  let c8_i32_1025 : BitVec 32 := 8#32
  let v2443 : BitVec 32 := Scalar.muli v2442 c8_i32_1025
  let v2444 : BitVec 32 := v2443
  let v2445 : Index := Scalar.indexCast v2444
  let c0_1026 : Index := 0#32
  ![v2445.toNat, 0]
def k0_off953 (v2440 : BitVec 32) : Fin 2 → Nat :=
  let c3_i32_1023 : BitVec 32 := 3#32
  let v2441 : BitVec 32 := Scalar.shrsi v2440 c3_i32_1023
  let c8191_i32_1024 : BitVec 32 := 8191#32
  let v2442 : BitVec 32 := Scalar.andi v2441 c8191_i32_1024
  let v2450 : Index := Scalar.indexCast v2442
  let c0_1028 : Index := 0#32
  ![v2450.toNat, 0]

def k0_chk399 (i : grid0.Coords) (v13 : BitVec 32) (v2440 : BitVec 32) : Prop :=
  (∀ (k0_h5 : k0_cond5 i v13 = 1#1), 8 ∣ (k0_mult396 v2440).toNat) ∧
  (∀ (k0_h5 : k0_cond5 i v13 = 1#1), ∀ a, (k0_off952 v2440) a + S8x128.size a ≤ S65536x128.size a) ∧
  (∀ (k0_h5 : k0_cond5 i v13 = 1#1), ∀ a, (k0_off953 v2440) a + S1x128.size a ≤ S8192x128.size a)
theorem k0_mult396_dvd : ∀ (i : grid0.Coords) (v13 : BitVec 32) (v2440 : BitVec 32) (k0_hw399 : k0_chk399 i v13 v2440), ∀ (k0_h5 : k0_cond5 i v13 = 1#1), 8 ∣ (k0_mult396 v2440).toNat := fun i v13 v2440 k0_hw399 k0_h5 => k0_hw399.1 k0_h5
theorem k0_off952_inb : ∀ (i : grid0.Coords) (v13 : BitVec 32) (v2440 : BitVec 32) (k0_hw399 : k0_chk399 i v13 v2440), ∀ (k0_h5 : k0_cond5 i v13 = 1#1), ∀ a, (k0_off952 v2440) a + S8x128.size a ≤ S65536x128.size a := fun i v13 v2440 k0_hw399 k0_h5 => k0_hw399.2.1 k0_h5
theorem k0_off953_inb : ∀ (i : grid0.Coords) (v13 : BitVec 32) (v2440 : BitVec 32) (k0_hw399 : k0_chk399 i v13 v2440), ∀ (k0_h5 : k0_cond5 i v13 = 1#1), ∀ a, (k0_off953 v2440) a + S1x128.size a ≤ S8192x128.size a := fun i v13 v2440 k0_hw399 k0_h5 => k0_hw399.2.2 k0_h5

def k0_off954 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c140_i32 : BitVec 32 := 140#32
  let v2455 : BitVec 32 := Scalar.addi v74 c140_i32
  let v2456 : Index := Scalar.indexCast v2455
  ![v2456.toNat]
def k0_mult397 (v2457 : BitVec 32) : BitVec 32 :=
  let c3_i32_1030 : BitVec 32 := 3#32
  let v2458 : BitVec 32 := Scalar.shrsi v2457 c3_i32_1030
  let c8191_i32_1031 : BitVec 32 := 8191#32
  let v2459 : BitVec 32 := Scalar.andi v2458 c8191_i32_1031
  let c8_i32_1032 : BitVec 32 := 8#32
  let v2460 : BitVec 32 := Scalar.muli v2459 c8_i32_1032
  v2460

def k0_off955 (v2457 : BitVec 32) : Fin 2 → Nat :=
  let c3_i32_1030 : BitVec 32 := 3#32
  let v2458 : BitVec 32 := Scalar.shrsi v2457 c3_i32_1030
  let c8191_i32_1031 : BitVec 32 := 8191#32
  let v2459 : BitVec 32 := Scalar.andi v2458 c8191_i32_1031
  let c8_i32_1032 : BitVec 32 := 8#32
  let v2460 : BitVec 32 := Scalar.muli v2459 c8_i32_1032
  let v2461 : BitVec 32 := v2460
  let v2462 : Index := Scalar.indexCast v2461
  let c0_1033 : Index := 0#32
  ![v2462.toNat, 0]
def k0_off956 (v2457 : BitVec 32) : Fin 2 → Nat :=
  let c3_i32_1030 : BitVec 32 := 3#32
  let v2458 : BitVec 32 := Scalar.shrsi v2457 c3_i32_1030
  let c8191_i32_1031 : BitVec 32 := 8191#32
  let v2459 : BitVec 32 := Scalar.andi v2458 c8191_i32_1031
  let v2467 : Index := Scalar.indexCast v2459
  let c0_1035 : Index := 0#32
  ![v2467.toNat, 0]

def k0_chk400 (i : grid0.Coords) (v13 : BitVec 32) (v2457 : BitVec 32) : Prop :=
  (∀ (k0_h5 : k0_cond5 i v13 = 1#1), 8 ∣ (k0_mult397 v2457).toNat) ∧
  (∀ (k0_h5 : k0_cond5 i v13 = 1#1), ∀ a, (k0_off955 v2457) a + S8x128.size a ≤ S65536x128.size a) ∧
  (∀ (k0_h5 : k0_cond5 i v13 = 1#1), ∀ a, (k0_off956 v2457) a + S1x128.size a ≤ S8192x128.size a)
theorem k0_mult397_dvd : ∀ (i : grid0.Coords) (v13 : BitVec 32) (v2457 : BitVec 32) (k0_hw400 : k0_chk400 i v13 v2457), ∀ (k0_h5 : k0_cond5 i v13 = 1#1), 8 ∣ (k0_mult397 v2457).toNat := fun i v13 v2457 k0_hw400 k0_h5 => k0_hw400.1 k0_h5
theorem k0_off955_inb : ∀ (i : grid0.Coords) (v13 : BitVec 32) (v2457 : BitVec 32) (k0_hw400 : k0_chk400 i v13 v2457), ∀ (k0_h5 : k0_cond5 i v13 = 1#1), ∀ a, (k0_off955 v2457) a + S8x128.size a ≤ S65536x128.size a := fun i v13 v2457 k0_hw400 k0_h5 => k0_hw400.2.1 k0_h5
theorem k0_off956_inb : ∀ (i : grid0.Coords) (v13 : BitVec 32) (v2457 : BitVec 32) (k0_hw400 : k0_chk400 i v13 v2457), ∀ (k0_h5 : k0_cond5 i v13 = 1#1), ∀ a, (k0_off956 v2457) a + S1x128.size a ≤ S8192x128.size a := fun i v13 v2457 k0_hw400 k0_h5 => k0_hw400.2.2 k0_h5

def k0_off957 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c141_i32 : BitVec 32 := 141#32
  let v2472 : BitVec 32 := Scalar.addi v74 c141_i32
  let v2473 : Index := Scalar.indexCast v2472
  ![v2473.toNat]
def k0_mult398 (v2474 : BitVec 32) : BitVec 32 :=
  let c3_i32_1037 : BitVec 32 := 3#32
  let v2475 : BitVec 32 := Scalar.shrsi v2474 c3_i32_1037
  let c8191_i32_1038 : BitVec 32 := 8191#32
  let v2476 : BitVec 32 := Scalar.andi v2475 c8191_i32_1038
  let c8_i32_1039 : BitVec 32 := 8#32
  let v2477 : BitVec 32 := Scalar.muli v2476 c8_i32_1039
  v2477

def k0_off958 (v2474 : BitVec 32) : Fin 2 → Nat :=
  let c3_i32_1037 : BitVec 32 := 3#32
  let v2475 : BitVec 32 := Scalar.shrsi v2474 c3_i32_1037
  let c8191_i32_1038 : BitVec 32 := 8191#32
  let v2476 : BitVec 32 := Scalar.andi v2475 c8191_i32_1038
  let c8_i32_1039 : BitVec 32 := 8#32
  let v2477 : BitVec 32 := Scalar.muli v2476 c8_i32_1039
  let v2478 : BitVec 32 := v2477
  let v2479 : Index := Scalar.indexCast v2478
  let c0_1040 : Index := 0#32
  ![v2479.toNat, 0]
def k0_off959 (v2474 : BitVec 32) : Fin 2 → Nat :=
  let c3_i32_1037 : BitVec 32 := 3#32
  let v2475 : BitVec 32 := Scalar.shrsi v2474 c3_i32_1037
  let c8191_i32_1038 : BitVec 32 := 8191#32
  let v2476 : BitVec 32 := Scalar.andi v2475 c8191_i32_1038
  let v2484 : Index := Scalar.indexCast v2476
  let c0_1042 : Index := 0#32
  ![v2484.toNat, 0]

def k0_chk401 (i : grid0.Coords) (v13 : BitVec 32) (v2474 : BitVec 32) : Prop :=
  (∀ (k0_h5 : k0_cond5 i v13 = 1#1), 8 ∣ (k0_mult398 v2474).toNat) ∧
  (∀ (k0_h5 : k0_cond5 i v13 = 1#1), ∀ a, (k0_off958 v2474) a + S8x128.size a ≤ S65536x128.size a) ∧
  (∀ (k0_h5 : k0_cond5 i v13 = 1#1), ∀ a, (k0_off959 v2474) a + S1x128.size a ≤ S8192x128.size a)
theorem k0_mult398_dvd : ∀ (i : grid0.Coords) (v13 : BitVec 32) (v2474 : BitVec 32) (k0_hw401 : k0_chk401 i v13 v2474), ∀ (k0_h5 : k0_cond5 i v13 = 1#1), 8 ∣ (k0_mult398 v2474).toNat := fun i v13 v2474 k0_hw401 k0_h5 => k0_hw401.1 k0_h5
theorem k0_off958_inb : ∀ (i : grid0.Coords) (v13 : BitVec 32) (v2474 : BitVec 32) (k0_hw401 : k0_chk401 i v13 v2474), ∀ (k0_h5 : k0_cond5 i v13 = 1#1), ∀ a, (k0_off958 v2474) a + S8x128.size a ≤ S65536x128.size a := fun i v13 v2474 k0_hw401 k0_h5 => k0_hw401.2.1 k0_h5
theorem k0_off959_inb : ∀ (i : grid0.Coords) (v13 : BitVec 32) (v2474 : BitVec 32) (k0_hw401 : k0_chk401 i v13 v2474), ∀ (k0_h5 : k0_cond5 i v13 = 1#1), ∀ a, (k0_off959 v2474) a + S1x128.size a ≤ S8192x128.size a := fun i v13 v2474 k0_hw401 k0_h5 => k0_hw401.2.2 k0_h5

def k0_off960 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c142_i32 : BitVec 32 := 142#32
  let v2489 : BitVec 32 := Scalar.addi v74 c142_i32
  let v2490 : Index := Scalar.indexCast v2489
  ![v2490.toNat]
def k0_mult399 (v2491 : BitVec 32) : BitVec 32 :=
  let c3_i32_1044 : BitVec 32 := 3#32
  let v2492 : BitVec 32 := Scalar.shrsi v2491 c3_i32_1044
  let c8191_i32_1045 : BitVec 32 := 8191#32
  let v2493 : BitVec 32 := Scalar.andi v2492 c8191_i32_1045
  let c8_i32_1046 : BitVec 32 := 8#32
  let v2494 : BitVec 32 := Scalar.muli v2493 c8_i32_1046
  v2494

def k0_off961 (v2491 : BitVec 32) : Fin 2 → Nat :=
  let c3_i32_1044 : BitVec 32 := 3#32
  let v2492 : BitVec 32 := Scalar.shrsi v2491 c3_i32_1044
  let c8191_i32_1045 : BitVec 32 := 8191#32
  let v2493 : BitVec 32 := Scalar.andi v2492 c8191_i32_1045
  let c8_i32_1046 : BitVec 32 := 8#32
  let v2494 : BitVec 32 := Scalar.muli v2493 c8_i32_1046
  let v2495 : BitVec 32 := v2494
  let v2496 : Index := Scalar.indexCast v2495
  let c0_1047 : Index := 0#32
  ![v2496.toNat, 0]
def k0_off962 (v2491 : BitVec 32) : Fin 2 → Nat :=
  let c3_i32_1044 : BitVec 32 := 3#32
  let v2492 : BitVec 32 := Scalar.shrsi v2491 c3_i32_1044
  let c8191_i32_1045 : BitVec 32 := 8191#32
  let v2493 : BitVec 32 := Scalar.andi v2492 c8191_i32_1045
  let v2501 : Index := Scalar.indexCast v2493
  let c0_1049 : Index := 0#32
  ![v2501.toNat, 0]

def k0_chk402 (i : grid0.Coords) (v13 : BitVec 32) (v2491 : BitVec 32) : Prop :=
  (∀ (k0_h5 : k0_cond5 i v13 = 1#1), 8 ∣ (k0_mult399 v2491).toNat) ∧
  (∀ (k0_h5 : k0_cond5 i v13 = 1#1), ∀ a, (k0_off961 v2491) a + S8x128.size a ≤ S65536x128.size a) ∧
  (∀ (k0_h5 : k0_cond5 i v13 = 1#1), ∀ a, (k0_off962 v2491) a + S1x128.size a ≤ S8192x128.size a)
theorem k0_mult399_dvd : ∀ (i : grid0.Coords) (v13 : BitVec 32) (v2491 : BitVec 32) (k0_hw402 : k0_chk402 i v13 v2491), ∀ (k0_h5 : k0_cond5 i v13 = 1#1), 8 ∣ (k0_mult399 v2491).toNat := fun i v13 v2491 k0_hw402 k0_h5 => k0_hw402.1 k0_h5
theorem k0_off961_inb : ∀ (i : grid0.Coords) (v13 : BitVec 32) (v2491 : BitVec 32) (k0_hw402 : k0_chk402 i v13 v2491), ∀ (k0_h5 : k0_cond5 i v13 = 1#1), ∀ a, (k0_off961 v2491) a + S8x128.size a ≤ S65536x128.size a := fun i v13 v2491 k0_hw402 k0_h5 => k0_hw402.2.1 k0_h5
theorem k0_off962_inb : ∀ (i : grid0.Coords) (v13 : BitVec 32) (v2491 : BitVec 32) (k0_hw402 : k0_chk402 i v13 v2491), ∀ (k0_h5 : k0_cond5 i v13 = 1#1), ∀ a, (k0_off962 v2491) a + S1x128.size a ≤ S8192x128.size a := fun i v13 v2491 k0_hw402 k0_h5 => k0_hw402.2.2 k0_h5

def k0_off963 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c143_i32 : BitVec 32 := 143#32
  let v2506 : BitVec 32 := Scalar.addi v74 c143_i32
  let v2507 : Index := Scalar.indexCast v2506
  ![v2507.toNat]
def k0_mult400 (v2508 : BitVec 32) : BitVec 32 :=
  let c3_i32_1051 : BitVec 32 := 3#32
  let v2509 : BitVec 32 := Scalar.shrsi v2508 c3_i32_1051
  let c8191_i32_1052 : BitVec 32 := 8191#32
  let v2510 : BitVec 32 := Scalar.andi v2509 c8191_i32_1052
  let c8_i32_1053 : BitVec 32 := 8#32
  let v2511 : BitVec 32 := Scalar.muli v2510 c8_i32_1053
  v2511

def k0_off964 (v2508 : BitVec 32) : Fin 2 → Nat :=
  let c3_i32_1051 : BitVec 32 := 3#32
  let v2509 : BitVec 32 := Scalar.shrsi v2508 c3_i32_1051
  let c8191_i32_1052 : BitVec 32 := 8191#32
  let v2510 : BitVec 32 := Scalar.andi v2509 c8191_i32_1052
  let c8_i32_1053 : BitVec 32 := 8#32
  let v2511 : BitVec 32 := Scalar.muli v2510 c8_i32_1053
  let v2512 : BitVec 32 := v2511
  let v2513 : Index := Scalar.indexCast v2512
  let c0_1054 : Index := 0#32
  ![v2513.toNat, 0]
def k0_off965 (v2508 : BitVec 32) : Fin 2 → Nat :=
  let c3_i32_1051 : BitVec 32 := 3#32
  let v2509 : BitVec 32 := Scalar.shrsi v2508 c3_i32_1051
  let c8191_i32_1052 : BitVec 32 := 8191#32
  let v2510 : BitVec 32 := Scalar.andi v2509 c8191_i32_1052
  let v2518 : Index := Scalar.indexCast v2510
  let c0_1056 : Index := 0#32
  ![v2518.toNat, 0]

def k0_chk403 (i : grid0.Coords) (v13 : BitVec 32) (v2508 : BitVec 32) : Prop :=
  (∀ (k0_h5 : k0_cond5 i v13 = 1#1), 8 ∣ (k0_mult400 v2508).toNat) ∧
  (∀ (k0_h5 : k0_cond5 i v13 = 1#1), ∀ a, (k0_off964 v2508) a + S8x128.size a ≤ S65536x128.size a) ∧
  (∀ (k0_h5 : k0_cond5 i v13 = 1#1), ∀ a, (k0_off965 v2508) a + S1x128.size a ≤ S8192x128.size a)
theorem k0_mult400_dvd : ∀ (i : grid0.Coords) (v13 : BitVec 32) (v2508 : BitVec 32) (k0_hw403 : k0_chk403 i v13 v2508), ∀ (k0_h5 : k0_cond5 i v13 = 1#1), 8 ∣ (k0_mult400 v2508).toNat := fun i v13 v2508 k0_hw403 k0_h5 => k0_hw403.1 k0_h5
theorem k0_off964_inb : ∀ (i : grid0.Coords) (v13 : BitVec 32) (v2508 : BitVec 32) (k0_hw403 : k0_chk403 i v13 v2508), ∀ (k0_h5 : k0_cond5 i v13 = 1#1), ∀ a, (k0_off964 v2508) a + S8x128.size a ≤ S65536x128.size a := fun i v13 v2508 k0_hw403 k0_h5 => k0_hw403.2.1 k0_h5
theorem k0_off965_inb : ∀ (i : grid0.Coords) (v13 : BitVec 32) (v2508 : BitVec 32) (k0_hw403 : k0_chk403 i v13 v2508), ∀ (k0_h5 : k0_cond5 i v13 = 1#1), ∀ a, (k0_off965 v2508) a + S1x128.size a ≤ S8192x128.size a := fun i v13 v2508 k0_hw403 k0_h5 => k0_hw403.2.2 k0_h5

def k0_off966 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c144_i32 : BitVec 32 := 144#32
  let v2523 : BitVec 32 := Scalar.addi v74 c144_i32
  let v2524 : Index := Scalar.indexCast v2523
  ![v2524.toNat]
def k0_mult401 (v2525 : BitVec 32) : BitVec 32 :=
  let c3_i32_1058 : BitVec 32 := 3#32
  let v2526 : BitVec 32 := Scalar.shrsi v2525 c3_i32_1058
  let c8191_i32_1059 : BitVec 32 := 8191#32
  let v2527 : BitVec 32 := Scalar.andi v2526 c8191_i32_1059
  let c8_i32_1060 : BitVec 32 := 8#32
  let v2528 : BitVec 32 := Scalar.muli v2527 c8_i32_1060
  v2528

def k0_off967 (v2525 : BitVec 32) : Fin 2 → Nat :=
  let c3_i32_1058 : BitVec 32 := 3#32
  let v2526 : BitVec 32 := Scalar.shrsi v2525 c3_i32_1058
  let c8191_i32_1059 : BitVec 32 := 8191#32
  let v2527 : BitVec 32 := Scalar.andi v2526 c8191_i32_1059
  let c8_i32_1060 : BitVec 32 := 8#32
  let v2528 : BitVec 32 := Scalar.muli v2527 c8_i32_1060
  let v2529 : BitVec 32 := v2528
  let v2530 : Index := Scalar.indexCast v2529
  let c0_1061 : Index := 0#32
  ![v2530.toNat, 0]
def k0_off968 (v2525 : BitVec 32) : Fin 2 → Nat :=
  let c3_i32_1058 : BitVec 32 := 3#32
  let v2526 : BitVec 32 := Scalar.shrsi v2525 c3_i32_1058
  let c8191_i32_1059 : BitVec 32 := 8191#32
  let v2527 : BitVec 32 := Scalar.andi v2526 c8191_i32_1059
  let v2535 : Index := Scalar.indexCast v2527
  let c0_1063 : Index := 0#32
  ![v2535.toNat, 0]

def k0_chk404 (i : grid0.Coords) (v13 : BitVec 32) (v2525 : BitVec 32) : Prop :=
  (∀ (k0_h5 : k0_cond5 i v13 = 1#1), 8 ∣ (k0_mult401 v2525).toNat) ∧
  (∀ (k0_h5 : k0_cond5 i v13 = 1#1), ∀ a, (k0_off967 v2525) a + S8x128.size a ≤ S65536x128.size a) ∧
  (∀ (k0_h5 : k0_cond5 i v13 = 1#1), ∀ a, (k0_off968 v2525) a + S1x128.size a ≤ S8192x128.size a)
theorem k0_mult401_dvd : ∀ (i : grid0.Coords) (v13 : BitVec 32) (v2525 : BitVec 32) (k0_hw404 : k0_chk404 i v13 v2525), ∀ (k0_h5 : k0_cond5 i v13 = 1#1), 8 ∣ (k0_mult401 v2525).toNat := fun i v13 v2525 k0_hw404 k0_h5 => k0_hw404.1 k0_h5
theorem k0_off967_inb : ∀ (i : grid0.Coords) (v13 : BitVec 32) (v2525 : BitVec 32) (k0_hw404 : k0_chk404 i v13 v2525), ∀ (k0_h5 : k0_cond5 i v13 = 1#1), ∀ a, (k0_off967 v2525) a + S8x128.size a ≤ S65536x128.size a := fun i v13 v2525 k0_hw404 k0_h5 => k0_hw404.2.1 k0_h5
theorem k0_off968_inb : ∀ (i : grid0.Coords) (v13 : BitVec 32) (v2525 : BitVec 32) (k0_hw404 : k0_chk404 i v13 v2525), ∀ (k0_h5 : k0_cond5 i v13 = 1#1), ∀ a, (k0_off968 v2525) a + S1x128.size a ≤ S8192x128.size a := fun i v13 v2525 k0_hw404 k0_h5 => k0_hw404.2.2 k0_h5

def k0_off969 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c145_i32 : BitVec 32 := 145#32
  let v2540 : BitVec 32 := Scalar.addi v74 c145_i32
  let v2541 : Index := Scalar.indexCast v2540
  ![v2541.toNat]
def k0_mult402 (v2542 : BitVec 32) : BitVec 32 :=
  let c3_i32_1066 : BitVec 32 := 3#32
  let v2543 : BitVec 32 := Scalar.shrsi v2542 c3_i32_1066
  let c8191_i32_1067 : BitVec 32 := 8191#32
  let v2544 : BitVec 32 := Scalar.andi v2543 c8191_i32_1067
  let c8_i32_1068 : BitVec 32 := 8#32
  let v2545 : BitVec 32 := Scalar.muli v2544 c8_i32_1068
  v2545

def k0_off970 (v2542 : BitVec 32) : Fin 2 → Nat :=
  let c3_i32_1066 : BitVec 32 := 3#32
  let v2543 : BitVec 32 := Scalar.shrsi v2542 c3_i32_1066
  let c8191_i32_1067 : BitVec 32 := 8191#32
  let v2544 : BitVec 32 := Scalar.andi v2543 c8191_i32_1067
  let c8_i32_1068 : BitVec 32 := 8#32
  let v2545 : BitVec 32 := Scalar.muli v2544 c8_i32_1068
  let v2546 : BitVec 32 := v2545
  let v2547 : Index := Scalar.indexCast v2546
  let c0_1069 : Index := 0#32
  ![v2547.toNat, 0]
def k0_off971 (v2542 : BitVec 32) : Fin 2 → Nat :=
  let c3_i32_1066 : BitVec 32 := 3#32
  let v2543 : BitVec 32 := Scalar.shrsi v2542 c3_i32_1066
  let c8191_i32_1067 : BitVec 32 := 8191#32
  let v2544 : BitVec 32 := Scalar.andi v2543 c8191_i32_1067
  let v2552 : Index := Scalar.indexCast v2544
  let c0_1071 : Index := 0#32
  ![v2552.toNat, 0]

def k0_chk405 (i : grid0.Coords) (v13 : BitVec 32) (v2542 : BitVec 32) : Prop :=
  (∀ (k0_h5 : k0_cond5 i v13 = 1#1), 8 ∣ (k0_mult402 v2542).toNat) ∧
  (∀ (k0_h5 : k0_cond5 i v13 = 1#1), ∀ a, (k0_off970 v2542) a + S8x128.size a ≤ S65536x128.size a) ∧
  (∀ (k0_h5 : k0_cond5 i v13 = 1#1), ∀ a, (k0_off971 v2542) a + S1x128.size a ≤ S8192x128.size a)
theorem k0_mult402_dvd : ∀ (i : grid0.Coords) (v13 : BitVec 32) (v2542 : BitVec 32) (k0_hw405 : k0_chk405 i v13 v2542), ∀ (k0_h5 : k0_cond5 i v13 = 1#1), 8 ∣ (k0_mult402 v2542).toNat := fun i v13 v2542 k0_hw405 k0_h5 => k0_hw405.1 k0_h5
theorem k0_off970_inb : ∀ (i : grid0.Coords) (v13 : BitVec 32) (v2542 : BitVec 32) (k0_hw405 : k0_chk405 i v13 v2542), ∀ (k0_h5 : k0_cond5 i v13 = 1#1), ∀ a, (k0_off970 v2542) a + S8x128.size a ≤ S65536x128.size a := fun i v13 v2542 k0_hw405 k0_h5 => k0_hw405.2.1 k0_h5
theorem k0_off971_inb : ∀ (i : grid0.Coords) (v13 : BitVec 32) (v2542 : BitVec 32) (k0_hw405 : k0_chk405 i v13 v2542), ∀ (k0_h5 : k0_cond5 i v13 = 1#1), ∀ a, (k0_off971 v2542) a + S1x128.size a ≤ S8192x128.size a := fun i v13 v2542 k0_hw405 k0_h5 => k0_hw405.2.2 k0_h5

def k0_off972 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c146_i32 : BitVec 32 := 146#32
  let v2557 : BitVec 32 := Scalar.addi v74 c146_i32
  let v2558 : Index := Scalar.indexCast v2557
  ![v2558.toNat]
def k0_mult403 (v2559 : BitVec 32) : BitVec 32 :=
  let c3_i32_1073 : BitVec 32 := 3#32
  let v2560 : BitVec 32 := Scalar.shrsi v2559 c3_i32_1073
  let c8191_i32_1074 : BitVec 32 := 8191#32
  let v2561 : BitVec 32 := Scalar.andi v2560 c8191_i32_1074
  let c8_i32_1075 : BitVec 32 := 8#32
  let v2562 : BitVec 32 := Scalar.muli v2561 c8_i32_1075
  v2562

def k0_off973 (v2559 : BitVec 32) : Fin 2 → Nat :=
  let c3_i32_1073 : BitVec 32 := 3#32
  let v2560 : BitVec 32 := Scalar.shrsi v2559 c3_i32_1073
  let c8191_i32_1074 : BitVec 32 := 8191#32
  let v2561 : BitVec 32 := Scalar.andi v2560 c8191_i32_1074
  let c8_i32_1075 : BitVec 32 := 8#32
  let v2562 : BitVec 32 := Scalar.muli v2561 c8_i32_1075
  let v2563 : BitVec 32 := v2562
  let v2564 : Index := Scalar.indexCast v2563
  let c0_1076 : Index := 0#32
  ![v2564.toNat, 0]
def k0_off974 (v2559 : BitVec 32) : Fin 2 → Nat :=
  let c3_i32_1073 : BitVec 32 := 3#32
  let v2560 : BitVec 32 := Scalar.shrsi v2559 c3_i32_1073
  let c8191_i32_1074 : BitVec 32 := 8191#32
  let v2561 : BitVec 32 := Scalar.andi v2560 c8191_i32_1074
  let v2569 : Index := Scalar.indexCast v2561
  let c0_1078 : Index := 0#32
  ![v2569.toNat, 0]

def k0_chk406 (i : grid0.Coords) (v13 : BitVec 32) (v2559 : BitVec 32) : Prop :=
  (∀ (k0_h5 : k0_cond5 i v13 = 1#1), 8 ∣ (k0_mult403 v2559).toNat) ∧
  (∀ (k0_h5 : k0_cond5 i v13 = 1#1), ∀ a, (k0_off973 v2559) a + S8x128.size a ≤ S65536x128.size a) ∧
  (∀ (k0_h5 : k0_cond5 i v13 = 1#1), ∀ a, (k0_off974 v2559) a + S1x128.size a ≤ S8192x128.size a)
theorem k0_mult403_dvd : ∀ (i : grid0.Coords) (v13 : BitVec 32) (v2559 : BitVec 32) (k0_hw406 : k0_chk406 i v13 v2559), ∀ (k0_h5 : k0_cond5 i v13 = 1#1), 8 ∣ (k0_mult403 v2559).toNat := fun i v13 v2559 k0_hw406 k0_h5 => k0_hw406.1 k0_h5
theorem k0_off973_inb : ∀ (i : grid0.Coords) (v13 : BitVec 32) (v2559 : BitVec 32) (k0_hw406 : k0_chk406 i v13 v2559), ∀ (k0_h5 : k0_cond5 i v13 = 1#1), ∀ a, (k0_off973 v2559) a + S8x128.size a ≤ S65536x128.size a := fun i v13 v2559 k0_hw406 k0_h5 => k0_hw406.2.1 k0_h5
theorem k0_off974_inb : ∀ (i : grid0.Coords) (v13 : BitVec 32) (v2559 : BitVec 32) (k0_hw406 : k0_chk406 i v13 v2559), ∀ (k0_h5 : k0_cond5 i v13 = 1#1), ∀ a, (k0_off974 v2559) a + S1x128.size a ≤ S8192x128.size a := fun i v13 v2559 k0_hw406 k0_h5 => k0_hw406.2.2 k0_h5

def k0_off975 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c147_i32 : BitVec 32 := 147#32
  let v2574 : BitVec 32 := Scalar.addi v74 c147_i32
  let v2575 : Index := Scalar.indexCast v2574
  ![v2575.toNat]
def k0_mult404 (v2576 : BitVec 32) : BitVec 32 :=
  let c3_i32_1080 : BitVec 32 := 3#32
  let v2577 : BitVec 32 := Scalar.shrsi v2576 c3_i32_1080
  let c8191_i32_1081 : BitVec 32 := 8191#32
  let v2578 : BitVec 32 := Scalar.andi v2577 c8191_i32_1081
  let c8_i32_1082 : BitVec 32 := 8#32
  let v2579 : BitVec 32 := Scalar.muli v2578 c8_i32_1082
  v2579

def k0_off976 (v2576 : BitVec 32) : Fin 2 → Nat :=
  let c3_i32_1080 : BitVec 32 := 3#32
  let v2577 : BitVec 32 := Scalar.shrsi v2576 c3_i32_1080
  let c8191_i32_1081 : BitVec 32 := 8191#32
  let v2578 : BitVec 32 := Scalar.andi v2577 c8191_i32_1081
  let c8_i32_1082 : BitVec 32 := 8#32
  let v2579 : BitVec 32 := Scalar.muli v2578 c8_i32_1082
  let v2580 : BitVec 32 := v2579
  let v2581 : Index := Scalar.indexCast v2580
  let c0_1083 : Index := 0#32
  ![v2581.toNat, 0]
def k0_off977 (v2576 : BitVec 32) : Fin 2 → Nat :=
  let c3_i32_1080 : BitVec 32 := 3#32
  let v2577 : BitVec 32 := Scalar.shrsi v2576 c3_i32_1080
  let c8191_i32_1081 : BitVec 32 := 8191#32
  let v2578 : BitVec 32 := Scalar.andi v2577 c8191_i32_1081
  let v2586 : Index := Scalar.indexCast v2578
  let c0_1085 : Index := 0#32
  ![v2586.toNat, 0]

def k0_chk407 (i : grid0.Coords) (v13 : BitVec 32) (v2576 : BitVec 32) : Prop :=
  (∀ (k0_h5 : k0_cond5 i v13 = 1#1), 8 ∣ (k0_mult404 v2576).toNat) ∧
  (∀ (k0_h5 : k0_cond5 i v13 = 1#1), ∀ a, (k0_off976 v2576) a + S8x128.size a ≤ S65536x128.size a) ∧
  (∀ (k0_h5 : k0_cond5 i v13 = 1#1), ∀ a, (k0_off977 v2576) a + S1x128.size a ≤ S8192x128.size a)
theorem k0_mult404_dvd : ∀ (i : grid0.Coords) (v13 : BitVec 32) (v2576 : BitVec 32) (k0_hw407 : k0_chk407 i v13 v2576), ∀ (k0_h5 : k0_cond5 i v13 = 1#1), 8 ∣ (k0_mult404 v2576).toNat := fun i v13 v2576 k0_hw407 k0_h5 => k0_hw407.1 k0_h5
theorem k0_off976_inb : ∀ (i : grid0.Coords) (v13 : BitVec 32) (v2576 : BitVec 32) (k0_hw407 : k0_chk407 i v13 v2576), ∀ (k0_h5 : k0_cond5 i v13 = 1#1), ∀ a, (k0_off976 v2576) a + S8x128.size a ≤ S65536x128.size a := fun i v13 v2576 k0_hw407 k0_h5 => k0_hw407.2.1 k0_h5
theorem k0_off977_inb : ∀ (i : grid0.Coords) (v13 : BitVec 32) (v2576 : BitVec 32) (k0_hw407 : k0_chk407 i v13 v2576), ∀ (k0_h5 : k0_cond5 i v13 = 1#1), ∀ a, (k0_off977 v2576) a + S1x128.size a ≤ S8192x128.size a := fun i v13 v2576 k0_hw407 k0_h5 => k0_hw407.2.2 k0_h5

def k0_off978 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c148_i32 : BitVec 32 := 148#32
  let v2591 : BitVec 32 := Scalar.addi v74 c148_i32
  let v2592 : Index := Scalar.indexCast v2591
  ![v2592.toNat]
def k0_mult405 (v2593 : BitVec 32) : BitVec 32 :=
  let c3_i32_1087 : BitVec 32 := 3#32
  let v2594 : BitVec 32 := Scalar.shrsi v2593 c3_i32_1087
  let c8191_i32_1088 : BitVec 32 := 8191#32
  let v2595 : BitVec 32 := Scalar.andi v2594 c8191_i32_1088
  let c8_i32_1089 : BitVec 32 := 8#32
  let v2596 : BitVec 32 := Scalar.muli v2595 c8_i32_1089
  v2596

def k0_off979 (v2593 : BitVec 32) : Fin 2 → Nat :=
  let c3_i32_1087 : BitVec 32 := 3#32
  let v2594 : BitVec 32 := Scalar.shrsi v2593 c3_i32_1087
  let c8191_i32_1088 : BitVec 32 := 8191#32
  let v2595 : BitVec 32 := Scalar.andi v2594 c8191_i32_1088
  let c8_i32_1089 : BitVec 32 := 8#32
  let v2596 : BitVec 32 := Scalar.muli v2595 c8_i32_1089
  let v2597 : BitVec 32 := v2596
  let v2598 : Index := Scalar.indexCast v2597
  let c0_1090 : Index := 0#32
  ![v2598.toNat, 0]
def k0_off980 (v2593 : BitVec 32) : Fin 2 → Nat :=
  let c3_i32_1087 : BitVec 32 := 3#32
  let v2594 : BitVec 32 := Scalar.shrsi v2593 c3_i32_1087
  let c8191_i32_1088 : BitVec 32 := 8191#32
  let v2595 : BitVec 32 := Scalar.andi v2594 c8191_i32_1088
  let v2603 : Index := Scalar.indexCast v2595
  let c0_1092 : Index := 0#32
  ![v2603.toNat, 0]

def k0_chk408 (i : grid0.Coords) (v13 : BitVec 32) (v2593 : BitVec 32) : Prop :=
  (∀ (k0_h5 : k0_cond5 i v13 = 1#1), 8 ∣ (k0_mult405 v2593).toNat) ∧
  (∀ (k0_h5 : k0_cond5 i v13 = 1#1), ∀ a, (k0_off979 v2593) a + S8x128.size a ≤ S65536x128.size a) ∧
  (∀ (k0_h5 : k0_cond5 i v13 = 1#1), ∀ a, (k0_off980 v2593) a + S1x128.size a ≤ S8192x128.size a)
theorem k0_mult405_dvd : ∀ (i : grid0.Coords) (v13 : BitVec 32) (v2593 : BitVec 32) (k0_hw408 : k0_chk408 i v13 v2593), ∀ (k0_h5 : k0_cond5 i v13 = 1#1), 8 ∣ (k0_mult405 v2593).toNat := fun i v13 v2593 k0_hw408 k0_h5 => k0_hw408.1 k0_h5
theorem k0_off979_inb : ∀ (i : grid0.Coords) (v13 : BitVec 32) (v2593 : BitVec 32) (k0_hw408 : k0_chk408 i v13 v2593), ∀ (k0_h5 : k0_cond5 i v13 = 1#1), ∀ a, (k0_off979 v2593) a + S8x128.size a ≤ S65536x128.size a := fun i v13 v2593 k0_hw408 k0_h5 => k0_hw408.2.1 k0_h5
theorem k0_off980_inb : ∀ (i : grid0.Coords) (v13 : BitVec 32) (v2593 : BitVec 32) (k0_hw408 : k0_chk408 i v13 v2593), ∀ (k0_h5 : k0_cond5 i v13 = 1#1), ∀ a, (k0_off980 v2593) a + S1x128.size a ≤ S8192x128.size a := fun i v13 v2593 k0_hw408 k0_h5 => k0_hw408.2.2 k0_h5

def k0_off981 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c149_i32 : BitVec 32 := 149#32
  let v2608 : BitVec 32 := Scalar.addi v74 c149_i32
  let v2609 : Index := Scalar.indexCast v2608
  ![v2609.toNat]
def k0_mult406 (v2610 : BitVec 32) : BitVec 32 :=
  let c3_i32_1094 : BitVec 32 := 3#32
  let v2611 : BitVec 32 := Scalar.shrsi v2610 c3_i32_1094
  let c8191_i32_1095 : BitVec 32 := 8191#32
  let v2612 : BitVec 32 := Scalar.andi v2611 c8191_i32_1095
  let c8_i32_1096 : BitVec 32 := 8#32
  let v2613 : BitVec 32 := Scalar.muli v2612 c8_i32_1096
  v2613

def k0_off982 (v2610 : BitVec 32) : Fin 2 → Nat :=
  let c3_i32_1094 : BitVec 32 := 3#32
  let v2611 : BitVec 32 := Scalar.shrsi v2610 c3_i32_1094
  let c8191_i32_1095 : BitVec 32 := 8191#32
  let v2612 : BitVec 32 := Scalar.andi v2611 c8191_i32_1095
  let c8_i32_1096 : BitVec 32 := 8#32
  let v2613 : BitVec 32 := Scalar.muli v2612 c8_i32_1096
  let v2614 : BitVec 32 := v2613
  let v2615 : Index := Scalar.indexCast v2614
  let c0_1097 : Index := 0#32
  ![v2615.toNat, 0]
def k0_off983 (v2610 : BitVec 32) : Fin 2 → Nat :=
  let c3_i32_1094 : BitVec 32 := 3#32
  let v2611 : BitVec 32 := Scalar.shrsi v2610 c3_i32_1094
  let c8191_i32_1095 : BitVec 32 := 8191#32
  let v2612 : BitVec 32 := Scalar.andi v2611 c8191_i32_1095
  let v2620 : Index := Scalar.indexCast v2612
  let c0_1099 : Index := 0#32
  ![v2620.toNat, 0]

def k0_chk409 (i : grid0.Coords) (v13 : BitVec 32) (v2610 : BitVec 32) : Prop :=
  (∀ (k0_h5 : k0_cond5 i v13 = 1#1), 8 ∣ (k0_mult406 v2610).toNat) ∧
  (∀ (k0_h5 : k0_cond5 i v13 = 1#1), ∀ a, (k0_off982 v2610) a + S8x128.size a ≤ S65536x128.size a) ∧
  (∀ (k0_h5 : k0_cond5 i v13 = 1#1), ∀ a, (k0_off983 v2610) a + S1x128.size a ≤ S8192x128.size a)
theorem k0_mult406_dvd : ∀ (i : grid0.Coords) (v13 : BitVec 32) (v2610 : BitVec 32) (k0_hw409 : k0_chk409 i v13 v2610), ∀ (k0_h5 : k0_cond5 i v13 = 1#1), 8 ∣ (k0_mult406 v2610).toNat := fun i v13 v2610 k0_hw409 k0_h5 => k0_hw409.1 k0_h5
theorem k0_off982_inb : ∀ (i : grid0.Coords) (v13 : BitVec 32) (v2610 : BitVec 32) (k0_hw409 : k0_chk409 i v13 v2610), ∀ (k0_h5 : k0_cond5 i v13 = 1#1), ∀ a, (k0_off982 v2610) a + S8x128.size a ≤ S65536x128.size a := fun i v13 v2610 k0_hw409 k0_h5 => k0_hw409.2.1 k0_h5
theorem k0_off983_inb : ∀ (i : grid0.Coords) (v13 : BitVec 32) (v2610 : BitVec 32) (k0_hw409 : k0_chk409 i v13 v2610), ∀ (k0_h5 : k0_cond5 i v13 = 1#1), ∀ a, (k0_off983 v2610) a + S1x128.size a ≤ S8192x128.size a := fun i v13 v2610 k0_hw409 k0_h5 => k0_hw409.2.2 k0_h5

def k0_off984 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c150_i32 : BitVec 32 := 150#32
  let v2625 : BitVec 32 := Scalar.addi v74 c150_i32
  let v2626 : Index := Scalar.indexCast v2625
  ![v2626.toNat]
def k0_mult407 (v2627 : BitVec 32) : BitVec 32 :=
  let c3_i32_1101 : BitVec 32 := 3#32
  let v2628 : BitVec 32 := Scalar.shrsi v2627 c3_i32_1101
  let c8191_i32_1102 : BitVec 32 := 8191#32
  let v2629 : BitVec 32 := Scalar.andi v2628 c8191_i32_1102
  let c8_i32_1103 : BitVec 32 := 8#32
  let v2630 : BitVec 32 := Scalar.muli v2629 c8_i32_1103
  v2630

def k0_off985 (v2627 : BitVec 32) : Fin 2 → Nat :=
  let c3_i32_1101 : BitVec 32 := 3#32
  let v2628 : BitVec 32 := Scalar.shrsi v2627 c3_i32_1101
  let c8191_i32_1102 : BitVec 32 := 8191#32
  let v2629 : BitVec 32 := Scalar.andi v2628 c8191_i32_1102
  let c8_i32_1103 : BitVec 32 := 8#32
  let v2630 : BitVec 32 := Scalar.muli v2629 c8_i32_1103
  let v2631 : BitVec 32 := v2630
  let v2632 : Index := Scalar.indexCast v2631
  let c0_1104 : Index := 0#32
  ![v2632.toNat, 0]
def k0_off986 (v2627 : BitVec 32) : Fin 2 → Nat :=
  let c3_i32_1101 : BitVec 32 := 3#32
  let v2628 : BitVec 32 := Scalar.shrsi v2627 c3_i32_1101
  let c8191_i32_1102 : BitVec 32 := 8191#32
  let v2629 : BitVec 32 := Scalar.andi v2628 c8191_i32_1102
  let v2637 : Index := Scalar.indexCast v2629
  let c0_1106 : Index := 0#32
  ![v2637.toNat, 0]

def k0_chk410 (i : grid0.Coords) (v13 : BitVec 32) (v2627 : BitVec 32) : Prop :=
  (∀ (k0_h5 : k0_cond5 i v13 = 1#1), 8 ∣ (k0_mult407 v2627).toNat) ∧
  (∀ (k0_h5 : k0_cond5 i v13 = 1#1), ∀ a, (k0_off985 v2627) a + S8x128.size a ≤ S65536x128.size a) ∧
  (∀ (k0_h5 : k0_cond5 i v13 = 1#1), ∀ a, (k0_off986 v2627) a + S1x128.size a ≤ S8192x128.size a)
theorem k0_mult407_dvd : ∀ (i : grid0.Coords) (v13 : BitVec 32) (v2627 : BitVec 32) (k0_hw410 : k0_chk410 i v13 v2627), ∀ (k0_h5 : k0_cond5 i v13 = 1#1), 8 ∣ (k0_mult407 v2627).toNat := fun i v13 v2627 k0_hw410 k0_h5 => k0_hw410.1 k0_h5
theorem k0_off985_inb : ∀ (i : grid0.Coords) (v13 : BitVec 32) (v2627 : BitVec 32) (k0_hw410 : k0_chk410 i v13 v2627), ∀ (k0_h5 : k0_cond5 i v13 = 1#1), ∀ a, (k0_off985 v2627) a + S8x128.size a ≤ S65536x128.size a := fun i v13 v2627 k0_hw410 k0_h5 => k0_hw410.2.1 k0_h5
theorem k0_off986_inb : ∀ (i : grid0.Coords) (v13 : BitVec 32) (v2627 : BitVec 32) (k0_hw410 : k0_chk410 i v13 v2627), ∀ (k0_h5 : k0_cond5 i v13 = 1#1), ∀ a, (k0_off986 v2627) a + S1x128.size a ≤ S8192x128.size a := fun i v13 v2627 k0_hw410 k0_h5 => k0_hw410.2.2 k0_h5

def k0_off987 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c151_i32 : BitVec 32 := 151#32
  let v2642 : BitVec 32 := Scalar.addi v74 c151_i32
  let v2643 : Index := Scalar.indexCast v2642
  ![v2643.toNat]
def k0_mult408 (v2644 : BitVec 32) : BitVec 32 :=
  let c3_i32_1108 : BitVec 32 := 3#32
  let v2645 : BitVec 32 := Scalar.shrsi v2644 c3_i32_1108
  let c8191_i32_1109 : BitVec 32 := 8191#32
  let v2646 : BitVec 32 := Scalar.andi v2645 c8191_i32_1109
  let c8_i32_1110 : BitVec 32 := 8#32
  let v2647 : BitVec 32 := Scalar.muli v2646 c8_i32_1110
  v2647

def k0_off988 (v2644 : BitVec 32) : Fin 2 → Nat :=
  let c3_i32_1108 : BitVec 32 := 3#32
  let v2645 : BitVec 32 := Scalar.shrsi v2644 c3_i32_1108
  let c8191_i32_1109 : BitVec 32 := 8191#32
  let v2646 : BitVec 32 := Scalar.andi v2645 c8191_i32_1109
  let c8_i32_1110 : BitVec 32 := 8#32
  let v2647 : BitVec 32 := Scalar.muli v2646 c8_i32_1110
  let v2648 : BitVec 32 := v2647
  let v2649 : Index := Scalar.indexCast v2648
  let c0_1111 : Index := 0#32
  ![v2649.toNat, 0]
def k0_off989 (v2644 : BitVec 32) : Fin 2 → Nat :=
  let c3_i32_1108 : BitVec 32 := 3#32
  let v2645 : BitVec 32 := Scalar.shrsi v2644 c3_i32_1108
  let c8191_i32_1109 : BitVec 32 := 8191#32
  let v2646 : BitVec 32 := Scalar.andi v2645 c8191_i32_1109
  let v2654 : Index := Scalar.indexCast v2646
  let c0_1113 : Index := 0#32
  ![v2654.toNat, 0]

def k0_chk411 (i : grid0.Coords) (v13 : BitVec 32) (v2644 : BitVec 32) : Prop :=
  (∀ (k0_h5 : k0_cond5 i v13 = 1#1), 8 ∣ (k0_mult408 v2644).toNat) ∧
  (∀ (k0_h5 : k0_cond5 i v13 = 1#1), ∀ a, (k0_off988 v2644) a + S8x128.size a ≤ S65536x128.size a) ∧
  (∀ (k0_h5 : k0_cond5 i v13 = 1#1), ∀ a, (k0_off989 v2644) a + S1x128.size a ≤ S8192x128.size a)
theorem k0_mult408_dvd : ∀ (i : grid0.Coords) (v13 : BitVec 32) (v2644 : BitVec 32) (k0_hw411 : k0_chk411 i v13 v2644), ∀ (k0_h5 : k0_cond5 i v13 = 1#1), 8 ∣ (k0_mult408 v2644).toNat := fun i v13 v2644 k0_hw411 k0_h5 => k0_hw411.1 k0_h5
theorem k0_off988_inb : ∀ (i : grid0.Coords) (v13 : BitVec 32) (v2644 : BitVec 32) (k0_hw411 : k0_chk411 i v13 v2644), ∀ (k0_h5 : k0_cond5 i v13 = 1#1), ∀ a, (k0_off988 v2644) a + S8x128.size a ≤ S65536x128.size a := fun i v13 v2644 k0_hw411 k0_h5 => k0_hw411.2.1 k0_h5
theorem k0_off989_inb : ∀ (i : grid0.Coords) (v13 : BitVec 32) (v2644 : BitVec 32) (k0_hw411 : k0_chk411 i v13 v2644), ∀ (k0_h5 : k0_cond5 i v13 = 1#1), ∀ a, (k0_off989 v2644) a + S1x128.size a ≤ S8192x128.size a := fun i v13 v2644 k0_hw411 k0_h5 => k0_hw411.2.2 k0_h5

def k0_off990 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c152_i32 : BitVec 32 := 152#32
  let v2659 : BitVec 32 := Scalar.addi v74 c152_i32
  let v2660 : Index := Scalar.indexCast v2659
  ![v2660.toNat]
def k0_mult409 (v2661 : BitVec 32) : BitVec 32 :=
  let c3_i32_1115 : BitVec 32 := 3#32
  let v2662 : BitVec 32 := Scalar.shrsi v2661 c3_i32_1115
  let c8191_i32_1116 : BitVec 32 := 8191#32
  let v2663 : BitVec 32 := Scalar.andi v2662 c8191_i32_1116
  let c8_i32_1117 : BitVec 32 := 8#32
  let v2664 : BitVec 32 := Scalar.muli v2663 c8_i32_1117
  v2664

def k0_off991 (v2661 : BitVec 32) : Fin 2 → Nat :=
  let c3_i32_1115 : BitVec 32 := 3#32
  let v2662 : BitVec 32 := Scalar.shrsi v2661 c3_i32_1115
  let c8191_i32_1116 : BitVec 32 := 8191#32
  let v2663 : BitVec 32 := Scalar.andi v2662 c8191_i32_1116
  let c8_i32_1117 : BitVec 32 := 8#32
  let v2664 : BitVec 32 := Scalar.muli v2663 c8_i32_1117
  let v2665 : BitVec 32 := v2664
  let v2666 : Index := Scalar.indexCast v2665
  let c0_1118 : Index := 0#32
  ![v2666.toNat, 0]
def k0_off992 (v2661 : BitVec 32) : Fin 2 → Nat :=
  let c3_i32_1115 : BitVec 32 := 3#32
  let v2662 : BitVec 32 := Scalar.shrsi v2661 c3_i32_1115
  let c8191_i32_1116 : BitVec 32 := 8191#32
  let v2663 : BitVec 32 := Scalar.andi v2662 c8191_i32_1116
  let v2671 : Index := Scalar.indexCast v2663
  let c0_1120 : Index := 0#32
  ![v2671.toNat, 0]

def k0_chk412 (i : grid0.Coords) (v13 : BitVec 32) (v2661 : BitVec 32) : Prop :=
  (∀ (k0_h5 : k0_cond5 i v13 = 1#1), 8 ∣ (k0_mult409 v2661).toNat) ∧
  (∀ (k0_h5 : k0_cond5 i v13 = 1#1), ∀ a, (k0_off991 v2661) a + S8x128.size a ≤ S65536x128.size a) ∧
  (∀ (k0_h5 : k0_cond5 i v13 = 1#1), ∀ a, (k0_off992 v2661) a + S1x128.size a ≤ S8192x128.size a)
theorem k0_mult409_dvd : ∀ (i : grid0.Coords) (v13 : BitVec 32) (v2661 : BitVec 32) (k0_hw412 : k0_chk412 i v13 v2661), ∀ (k0_h5 : k0_cond5 i v13 = 1#1), 8 ∣ (k0_mult409 v2661).toNat := fun i v13 v2661 k0_hw412 k0_h5 => k0_hw412.1 k0_h5
theorem k0_off991_inb : ∀ (i : grid0.Coords) (v13 : BitVec 32) (v2661 : BitVec 32) (k0_hw412 : k0_chk412 i v13 v2661), ∀ (k0_h5 : k0_cond5 i v13 = 1#1), ∀ a, (k0_off991 v2661) a + S8x128.size a ≤ S65536x128.size a := fun i v13 v2661 k0_hw412 k0_h5 => k0_hw412.2.1 k0_h5
theorem k0_off992_inb : ∀ (i : grid0.Coords) (v13 : BitVec 32) (v2661 : BitVec 32) (k0_hw412 : k0_chk412 i v13 v2661), ∀ (k0_h5 : k0_cond5 i v13 = 1#1), ∀ a, (k0_off992 v2661) a + S1x128.size a ≤ S8192x128.size a := fun i v13 v2661 k0_hw412 k0_h5 => k0_hw412.2.2 k0_h5

def k0_off993 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c153_i32 : BitVec 32 := 153#32
  let v2676 : BitVec 32 := Scalar.addi v74 c153_i32
  let v2677 : Index := Scalar.indexCast v2676
  ![v2677.toNat]
def k0_mult410 (v2678 : BitVec 32) : BitVec 32 :=
  let c3_i32_1123 : BitVec 32 := 3#32
  let v2679 : BitVec 32 := Scalar.shrsi v2678 c3_i32_1123
  let c8191_i32_1124 : BitVec 32 := 8191#32
  let v2680 : BitVec 32 := Scalar.andi v2679 c8191_i32_1124
  let c8_i32_1125 : BitVec 32 := 8#32
  let v2681 : BitVec 32 := Scalar.muli v2680 c8_i32_1125
  v2681

def k0_off994 (v2678 : BitVec 32) : Fin 2 → Nat :=
  let c3_i32_1123 : BitVec 32 := 3#32
  let v2679 : BitVec 32 := Scalar.shrsi v2678 c3_i32_1123
  let c8191_i32_1124 : BitVec 32 := 8191#32
  let v2680 : BitVec 32 := Scalar.andi v2679 c8191_i32_1124
  let c8_i32_1125 : BitVec 32 := 8#32
  let v2681 : BitVec 32 := Scalar.muli v2680 c8_i32_1125
  let v2682 : BitVec 32 := v2681
  let v2683 : Index := Scalar.indexCast v2682
  let c0_1126 : Index := 0#32
  ![v2683.toNat, 0]
def k0_off995 (v2678 : BitVec 32) : Fin 2 → Nat :=
  let c3_i32_1123 : BitVec 32 := 3#32
  let v2679 : BitVec 32 := Scalar.shrsi v2678 c3_i32_1123
  let c8191_i32_1124 : BitVec 32 := 8191#32
  let v2680 : BitVec 32 := Scalar.andi v2679 c8191_i32_1124
  let v2688 : Index := Scalar.indexCast v2680
  let c0_1128 : Index := 0#32
  ![v2688.toNat, 0]

def k0_chk413 (i : grid0.Coords) (v13 : BitVec 32) (v2678 : BitVec 32) : Prop :=
  (∀ (k0_h5 : k0_cond5 i v13 = 1#1), 8 ∣ (k0_mult410 v2678).toNat) ∧
  (∀ (k0_h5 : k0_cond5 i v13 = 1#1), ∀ a, (k0_off994 v2678) a + S8x128.size a ≤ S65536x128.size a) ∧
  (∀ (k0_h5 : k0_cond5 i v13 = 1#1), ∀ a, (k0_off995 v2678) a + S1x128.size a ≤ S8192x128.size a)
theorem k0_mult410_dvd : ∀ (i : grid0.Coords) (v13 : BitVec 32) (v2678 : BitVec 32) (k0_hw413 : k0_chk413 i v13 v2678), ∀ (k0_h5 : k0_cond5 i v13 = 1#1), 8 ∣ (k0_mult410 v2678).toNat := fun i v13 v2678 k0_hw413 k0_h5 => k0_hw413.1 k0_h5
theorem k0_off994_inb : ∀ (i : grid0.Coords) (v13 : BitVec 32) (v2678 : BitVec 32) (k0_hw413 : k0_chk413 i v13 v2678), ∀ (k0_h5 : k0_cond5 i v13 = 1#1), ∀ a, (k0_off994 v2678) a + S8x128.size a ≤ S65536x128.size a := fun i v13 v2678 k0_hw413 k0_h5 => k0_hw413.2.1 k0_h5
theorem k0_off995_inb : ∀ (i : grid0.Coords) (v13 : BitVec 32) (v2678 : BitVec 32) (k0_hw413 : k0_chk413 i v13 v2678), ∀ (k0_h5 : k0_cond5 i v13 = 1#1), ∀ a, (k0_off995 v2678) a + S1x128.size a ≤ S8192x128.size a := fun i v13 v2678 k0_hw413 k0_h5 => k0_hw413.2.2 k0_h5

def k0_off996 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c154_i32 : BitVec 32 := 154#32
  let v2693 : BitVec 32 := Scalar.addi v74 c154_i32
  let v2694 : Index := Scalar.indexCast v2693
  ![v2694.toNat]
def k0_mult411 (v2695 : BitVec 32) : BitVec 32 :=
  let c3_i32_1130 : BitVec 32 := 3#32
  let v2696 : BitVec 32 := Scalar.shrsi v2695 c3_i32_1130
  let c8191_i32_1131 : BitVec 32 := 8191#32
  let v2697 : BitVec 32 := Scalar.andi v2696 c8191_i32_1131
  let c8_i32_1132 : BitVec 32 := 8#32
  let v2698 : BitVec 32 := Scalar.muli v2697 c8_i32_1132
  v2698

def k0_off997 (v2695 : BitVec 32) : Fin 2 → Nat :=
  let c3_i32_1130 : BitVec 32 := 3#32
  let v2696 : BitVec 32 := Scalar.shrsi v2695 c3_i32_1130
  let c8191_i32_1131 : BitVec 32 := 8191#32
  let v2697 : BitVec 32 := Scalar.andi v2696 c8191_i32_1131
  let c8_i32_1132 : BitVec 32 := 8#32
  let v2698 : BitVec 32 := Scalar.muli v2697 c8_i32_1132
  let v2699 : BitVec 32 := v2698
  let v2700 : Index := Scalar.indexCast v2699
  let c0_1133 : Index := 0#32
  ![v2700.toNat, 0]
def k0_off998 (v2695 : BitVec 32) : Fin 2 → Nat :=
  let c3_i32_1130 : BitVec 32 := 3#32
  let v2696 : BitVec 32 := Scalar.shrsi v2695 c3_i32_1130
  let c8191_i32_1131 : BitVec 32 := 8191#32
  let v2697 : BitVec 32 := Scalar.andi v2696 c8191_i32_1131
  let v2705 : Index := Scalar.indexCast v2697
  let c0_1135 : Index := 0#32
  ![v2705.toNat, 0]

def k0_chk414 (i : grid0.Coords) (v13 : BitVec 32) (v2695 : BitVec 32) : Prop :=
  (∀ (k0_h5 : k0_cond5 i v13 = 1#1), 8 ∣ (k0_mult411 v2695).toNat) ∧
  (∀ (k0_h5 : k0_cond5 i v13 = 1#1), ∀ a, (k0_off997 v2695) a + S8x128.size a ≤ S65536x128.size a) ∧
  (∀ (k0_h5 : k0_cond5 i v13 = 1#1), ∀ a, (k0_off998 v2695) a + S1x128.size a ≤ S8192x128.size a)
theorem k0_mult411_dvd : ∀ (i : grid0.Coords) (v13 : BitVec 32) (v2695 : BitVec 32) (k0_hw414 : k0_chk414 i v13 v2695), ∀ (k0_h5 : k0_cond5 i v13 = 1#1), 8 ∣ (k0_mult411 v2695).toNat := fun i v13 v2695 k0_hw414 k0_h5 => k0_hw414.1 k0_h5
theorem k0_off997_inb : ∀ (i : grid0.Coords) (v13 : BitVec 32) (v2695 : BitVec 32) (k0_hw414 : k0_chk414 i v13 v2695), ∀ (k0_h5 : k0_cond5 i v13 = 1#1), ∀ a, (k0_off997 v2695) a + S8x128.size a ≤ S65536x128.size a := fun i v13 v2695 k0_hw414 k0_h5 => k0_hw414.2.1 k0_h5
theorem k0_off998_inb : ∀ (i : grid0.Coords) (v13 : BitVec 32) (v2695 : BitVec 32) (k0_hw414 : k0_chk414 i v13 v2695), ∀ (k0_h5 : k0_cond5 i v13 = 1#1), ∀ a, (k0_off998 v2695) a + S1x128.size a ≤ S8192x128.size a := fun i v13 v2695 k0_hw414 k0_h5 => k0_hw414.2.2 k0_h5

def k0_off999 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c155_i32 : BitVec 32 := 155#32
  let v2710 : BitVec 32 := Scalar.addi v74 c155_i32
  let v2711 : Index := Scalar.indexCast v2710
  ![v2711.toNat]
def k0_mult412 (v2712 : BitVec 32) : BitVec 32 :=
  let c3_i32_1137 : BitVec 32 := 3#32
  let v2713 : BitVec 32 := Scalar.shrsi v2712 c3_i32_1137
  let c8191_i32_1138 : BitVec 32 := 8191#32
  let v2714 : BitVec 32 := Scalar.andi v2713 c8191_i32_1138
  let c8_i32_1139 : BitVec 32 := 8#32
  let v2715 : BitVec 32 := Scalar.muli v2714 c8_i32_1139
  v2715

def k0_off1000 (v2712 : BitVec 32) : Fin 2 → Nat :=
  let c3_i32_1137 : BitVec 32 := 3#32
  let v2713 : BitVec 32 := Scalar.shrsi v2712 c3_i32_1137
  let c8191_i32_1138 : BitVec 32 := 8191#32
  let v2714 : BitVec 32 := Scalar.andi v2713 c8191_i32_1138
  let c8_i32_1139 : BitVec 32 := 8#32
  let v2715 : BitVec 32 := Scalar.muli v2714 c8_i32_1139
  let v2716 : BitVec 32 := v2715
  let v2717 : Index := Scalar.indexCast v2716
  let c0_1140 : Index := 0#32
  ![v2717.toNat, 0]
def k0_off1001 (v2712 : BitVec 32) : Fin 2 → Nat :=
  let c3_i32_1137 : BitVec 32 := 3#32
  let v2713 : BitVec 32 := Scalar.shrsi v2712 c3_i32_1137
  let c8191_i32_1138 : BitVec 32 := 8191#32
  let v2714 : BitVec 32 := Scalar.andi v2713 c8191_i32_1138
  let v2722 : Index := Scalar.indexCast v2714
  let c0_1142 : Index := 0#32
  ![v2722.toNat, 0]

def k0_chk415 (i : grid0.Coords) (v13 : BitVec 32) (v2712 : BitVec 32) : Prop :=
  (∀ (k0_h5 : k0_cond5 i v13 = 1#1), 8 ∣ (k0_mult412 v2712).toNat) ∧
  (∀ (k0_h5 : k0_cond5 i v13 = 1#1), ∀ a, (k0_off1000 v2712) a + S8x128.size a ≤ S65536x128.size a) ∧
  (∀ (k0_h5 : k0_cond5 i v13 = 1#1), ∀ a, (k0_off1001 v2712) a + S1x128.size a ≤ S8192x128.size a)
theorem k0_mult412_dvd : ∀ (i : grid0.Coords) (v13 : BitVec 32) (v2712 : BitVec 32) (k0_hw415 : k0_chk415 i v13 v2712), ∀ (k0_h5 : k0_cond5 i v13 = 1#1), 8 ∣ (k0_mult412 v2712).toNat := fun i v13 v2712 k0_hw415 k0_h5 => k0_hw415.1 k0_h5
theorem k0_off1000_inb : ∀ (i : grid0.Coords) (v13 : BitVec 32) (v2712 : BitVec 32) (k0_hw415 : k0_chk415 i v13 v2712), ∀ (k0_h5 : k0_cond5 i v13 = 1#1), ∀ a, (k0_off1000 v2712) a + S8x128.size a ≤ S65536x128.size a := fun i v13 v2712 k0_hw415 k0_h5 => k0_hw415.2.1 k0_h5
theorem k0_off1001_inb : ∀ (i : grid0.Coords) (v13 : BitVec 32) (v2712 : BitVec 32) (k0_hw415 : k0_chk415 i v13 v2712), ∀ (k0_h5 : k0_cond5 i v13 = 1#1), ∀ a, (k0_off1001 v2712) a + S1x128.size a ≤ S8192x128.size a := fun i v13 v2712 k0_hw415 k0_h5 => k0_hw415.2.2 k0_h5

def k0_off1002 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c156_i32 : BitVec 32 := 156#32
  let v2727 : BitVec 32 := Scalar.addi v74 c156_i32
  let v2728 : Index := Scalar.indexCast v2727
  ![v2728.toNat]
def k0_mult413 (v2729 : BitVec 32) : BitVec 32 :=
  let c3_i32_1144 : BitVec 32 := 3#32
  let v2730 : BitVec 32 := Scalar.shrsi v2729 c3_i32_1144
  let c8191_i32_1145 : BitVec 32 := 8191#32
  let v2731 : BitVec 32 := Scalar.andi v2730 c8191_i32_1145
  let c8_i32_1146 : BitVec 32 := 8#32
  let v2732 : BitVec 32 := Scalar.muli v2731 c8_i32_1146
  v2732

def k0_off1003 (v2729 : BitVec 32) : Fin 2 → Nat :=
  let c3_i32_1144 : BitVec 32 := 3#32
  let v2730 : BitVec 32 := Scalar.shrsi v2729 c3_i32_1144
  let c8191_i32_1145 : BitVec 32 := 8191#32
  let v2731 : BitVec 32 := Scalar.andi v2730 c8191_i32_1145
  let c8_i32_1146 : BitVec 32 := 8#32
  let v2732 : BitVec 32 := Scalar.muli v2731 c8_i32_1146
  let v2733 : BitVec 32 := v2732
  let v2734 : Index := Scalar.indexCast v2733
  let c0_1147 : Index := 0#32
  ![v2734.toNat, 0]
def k0_off1004 (v2729 : BitVec 32) : Fin 2 → Nat :=
  let c3_i32_1144 : BitVec 32 := 3#32
  let v2730 : BitVec 32 := Scalar.shrsi v2729 c3_i32_1144
  let c8191_i32_1145 : BitVec 32 := 8191#32
  let v2731 : BitVec 32 := Scalar.andi v2730 c8191_i32_1145
  let v2739 : Index := Scalar.indexCast v2731
  let c0_1149 : Index := 0#32
  ![v2739.toNat, 0]

def k0_chk416 (i : grid0.Coords) (v13 : BitVec 32) (v2729 : BitVec 32) : Prop :=
  (∀ (k0_h5 : k0_cond5 i v13 = 1#1), 8 ∣ (k0_mult413 v2729).toNat) ∧
  (∀ (k0_h5 : k0_cond5 i v13 = 1#1), ∀ a, (k0_off1003 v2729) a + S8x128.size a ≤ S65536x128.size a) ∧
  (∀ (k0_h5 : k0_cond5 i v13 = 1#1), ∀ a, (k0_off1004 v2729) a + S1x128.size a ≤ S8192x128.size a)
theorem k0_mult413_dvd : ∀ (i : grid0.Coords) (v13 : BitVec 32) (v2729 : BitVec 32) (k0_hw416 : k0_chk416 i v13 v2729), ∀ (k0_h5 : k0_cond5 i v13 = 1#1), 8 ∣ (k0_mult413 v2729).toNat := fun i v13 v2729 k0_hw416 k0_h5 => k0_hw416.1 k0_h5
theorem k0_off1003_inb : ∀ (i : grid0.Coords) (v13 : BitVec 32) (v2729 : BitVec 32) (k0_hw416 : k0_chk416 i v13 v2729), ∀ (k0_h5 : k0_cond5 i v13 = 1#1), ∀ a, (k0_off1003 v2729) a + S8x128.size a ≤ S65536x128.size a := fun i v13 v2729 k0_hw416 k0_h5 => k0_hw416.2.1 k0_h5
theorem k0_off1004_inb : ∀ (i : grid0.Coords) (v13 : BitVec 32) (v2729 : BitVec 32) (k0_hw416 : k0_chk416 i v13 v2729), ∀ (k0_h5 : k0_cond5 i v13 = 1#1), ∀ a, (k0_off1004 v2729) a + S1x128.size a ≤ S8192x128.size a := fun i v13 v2729 k0_hw416 k0_h5 => k0_hw416.2.2 k0_h5

def k0_off1005 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c157_i32 : BitVec 32 := 157#32
  let v2744 : BitVec 32 := Scalar.addi v74 c157_i32
  let v2745 : Index := Scalar.indexCast v2744
  ![v2745.toNat]
def k0_mult414 (v2746 : BitVec 32) : BitVec 32 :=
  let c3_i32_1151 : BitVec 32 := 3#32
  let v2747 : BitVec 32 := Scalar.shrsi v2746 c3_i32_1151
  let c8191_i32_1152 : BitVec 32 := 8191#32
  let v2748 : BitVec 32 := Scalar.andi v2747 c8191_i32_1152
  let c8_i32_1153 : BitVec 32 := 8#32
  let v2749 : BitVec 32 := Scalar.muli v2748 c8_i32_1153
  v2749

def k0_off1006 (v2746 : BitVec 32) : Fin 2 → Nat :=
  let c3_i32_1151 : BitVec 32 := 3#32
  let v2747 : BitVec 32 := Scalar.shrsi v2746 c3_i32_1151
  let c8191_i32_1152 : BitVec 32 := 8191#32
  let v2748 : BitVec 32 := Scalar.andi v2747 c8191_i32_1152
  let c8_i32_1153 : BitVec 32 := 8#32
  let v2749 : BitVec 32 := Scalar.muli v2748 c8_i32_1153
  let v2750 : BitVec 32 := v2749
  let v2751 : Index := Scalar.indexCast v2750
  let c0_1154 : Index := 0#32
  ![v2751.toNat, 0]
def k0_off1007 (v2746 : BitVec 32) : Fin 2 → Nat :=
  let c3_i32_1151 : BitVec 32 := 3#32
  let v2747 : BitVec 32 := Scalar.shrsi v2746 c3_i32_1151
  let c8191_i32_1152 : BitVec 32 := 8191#32
  let v2748 : BitVec 32 := Scalar.andi v2747 c8191_i32_1152
  let v2756 : Index := Scalar.indexCast v2748
  let c0_1156 : Index := 0#32
  ![v2756.toNat, 0]

def k0_chk417 (i : grid0.Coords) (v13 : BitVec 32) (v2746 : BitVec 32) : Prop :=
  (∀ (k0_h5 : k0_cond5 i v13 = 1#1), 8 ∣ (k0_mult414 v2746).toNat) ∧
  (∀ (k0_h5 : k0_cond5 i v13 = 1#1), ∀ a, (k0_off1006 v2746) a + S8x128.size a ≤ S65536x128.size a) ∧
  (∀ (k0_h5 : k0_cond5 i v13 = 1#1), ∀ a, (k0_off1007 v2746) a + S1x128.size a ≤ S8192x128.size a)
theorem k0_mult414_dvd : ∀ (i : grid0.Coords) (v13 : BitVec 32) (v2746 : BitVec 32) (k0_hw417 : k0_chk417 i v13 v2746), ∀ (k0_h5 : k0_cond5 i v13 = 1#1), 8 ∣ (k0_mult414 v2746).toNat := fun i v13 v2746 k0_hw417 k0_h5 => k0_hw417.1 k0_h5
theorem k0_off1006_inb : ∀ (i : grid0.Coords) (v13 : BitVec 32) (v2746 : BitVec 32) (k0_hw417 : k0_chk417 i v13 v2746), ∀ (k0_h5 : k0_cond5 i v13 = 1#1), ∀ a, (k0_off1006 v2746) a + S8x128.size a ≤ S65536x128.size a := fun i v13 v2746 k0_hw417 k0_h5 => k0_hw417.2.1 k0_h5
theorem k0_off1007_inb : ∀ (i : grid0.Coords) (v13 : BitVec 32) (v2746 : BitVec 32) (k0_hw417 : k0_chk417 i v13 v2746), ∀ (k0_h5 : k0_cond5 i v13 = 1#1), ∀ a, (k0_off1007 v2746) a + S1x128.size a ≤ S8192x128.size a := fun i v13 v2746 k0_hw417 k0_h5 => k0_hw417.2.2 k0_h5

def k0_off1008 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c158_i32 : BitVec 32 := 158#32
  let v2761 : BitVec 32 := Scalar.addi v74 c158_i32
  let v2762 : Index := Scalar.indexCast v2761
  ![v2762.toNat]
def k0_mult415 (v2763 : BitVec 32) : BitVec 32 :=
  let c3_i32_1158 : BitVec 32 := 3#32
  let v2764 : BitVec 32 := Scalar.shrsi v2763 c3_i32_1158
  let c8191_i32_1159 : BitVec 32 := 8191#32
  let v2765 : BitVec 32 := Scalar.andi v2764 c8191_i32_1159
  let c8_i32_1160 : BitVec 32 := 8#32
  let v2766 : BitVec 32 := Scalar.muli v2765 c8_i32_1160
  v2766

def k0_off1009 (v2763 : BitVec 32) : Fin 2 → Nat :=
  let c3_i32_1158 : BitVec 32 := 3#32
  let v2764 : BitVec 32 := Scalar.shrsi v2763 c3_i32_1158
  let c8191_i32_1159 : BitVec 32 := 8191#32
  let v2765 : BitVec 32 := Scalar.andi v2764 c8191_i32_1159
  let c8_i32_1160 : BitVec 32 := 8#32
  let v2766 : BitVec 32 := Scalar.muli v2765 c8_i32_1160
  let v2767 : BitVec 32 := v2766
  let v2768 : Index := Scalar.indexCast v2767
  let c0_1161 : Index := 0#32
  ![v2768.toNat, 0]
def k0_off1010 (v2763 : BitVec 32) : Fin 2 → Nat :=
  let c3_i32_1158 : BitVec 32 := 3#32
  let v2764 : BitVec 32 := Scalar.shrsi v2763 c3_i32_1158
  let c8191_i32_1159 : BitVec 32 := 8191#32
  let v2765 : BitVec 32 := Scalar.andi v2764 c8191_i32_1159
  let v2773 : Index := Scalar.indexCast v2765
  let c0_1163 : Index := 0#32
  ![v2773.toNat, 0]

def k0_chk418 (i : grid0.Coords) (v13 : BitVec 32) (v2763 : BitVec 32) : Prop :=
  (∀ (k0_h5 : k0_cond5 i v13 = 1#1), 8 ∣ (k0_mult415 v2763).toNat) ∧
  (∀ (k0_h5 : k0_cond5 i v13 = 1#1), ∀ a, (k0_off1009 v2763) a + S8x128.size a ≤ S65536x128.size a) ∧
  (∀ (k0_h5 : k0_cond5 i v13 = 1#1), ∀ a, (k0_off1010 v2763) a + S1x128.size a ≤ S8192x128.size a)
theorem k0_mult415_dvd : ∀ (i : grid0.Coords) (v13 : BitVec 32) (v2763 : BitVec 32) (k0_hw418 : k0_chk418 i v13 v2763), ∀ (k0_h5 : k0_cond5 i v13 = 1#1), 8 ∣ (k0_mult415 v2763).toNat := fun i v13 v2763 k0_hw418 k0_h5 => k0_hw418.1 k0_h5
theorem k0_off1009_inb : ∀ (i : grid0.Coords) (v13 : BitVec 32) (v2763 : BitVec 32) (k0_hw418 : k0_chk418 i v13 v2763), ∀ (k0_h5 : k0_cond5 i v13 = 1#1), ∀ a, (k0_off1009 v2763) a + S8x128.size a ≤ S65536x128.size a := fun i v13 v2763 k0_hw418 k0_h5 => k0_hw418.2.1 k0_h5
theorem k0_off1010_inb : ∀ (i : grid0.Coords) (v13 : BitVec 32) (v2763 : BitVec 32) (k0_hw418 : k0_chk418 i v13 v2763), ∀ (k0_h5 : k0_cond5 i v13 = 1#1), ∀ a, (k0_off1010 v2763) a + S1x128.size a ≤ S8192x128.size a := fun i v13 v2763 k0_hw418 k0_h5 => k0_hw418.2.2 k0_h5

def k0_off1011 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c159_i32 : BitVec 32 := 159#32
  let v2778 : BitVec 32 := Scalar.addi v74 c159_i32
  let v2779 : Index := Scalar.indexCast v2778
  ![v2779.toNat]
def k0_mult416 (v2780 : BitVec 32) : BitVec 32 :=
  let c3_i32_1165 : BitVec 32 := 3#32
  let v2781 : BitVec 32 := Scalar.shrsi v2780 c3_i32_1165
  let c8191_i32_1166 : BitVec 32 := 8191#32
  let v2782 : BitVec 32 := Scalar.andi v2781 c8191_i32_1166
  let c8_i32_1167 : BitVec 32 := 8#32
  let v2783 : BitVec 32 := Scalar.muli v2782 c8_i32_1167
  v2783

def k0_off1012 (v2780 : BitVec 32) : Fin 2 → Nat :=
  let c3_i32_1165 : BitVec 32 := 3#32
  let v2781 : BitVec 32 := Scalar.shrsi v2780 c3_i32_1165
  let c8191_i32_1166 : BitVec 32 := 8191#32
  let v2782 : BitVec 32 := Scalar.andi v2781 c8191_i32_1166
  let c8_i32_1167 : BitVec 32 := 8#32
  let v2783 : BitVec 32 := Scalar.muli v2782 c8_i32_1167
  let v2784 : BitVec 32 := v2783
  let v2785 : Index := Scalar.indexCast v2784
  let c0_1168 : Index := 0#32
  ![v2785.toNat, 0]
def k0_off1013 (v2780 : BitVec 32) : Fin 2 → Nat :=
  let c3_i32_1165 : BitVec 32 := 3#32
  let v2781 : BitVec 32 := Scalar.shrsi v2780 c3_i32_1165
  let c8191_i32_1166 : BitVec 32 := 8191#32
  let v2782 : BitVec 32 := Scalar.andi v2781 c8191_i32_1166
  let v2790 : Index := Scalar.indexCast v2782
  let c0_1170 : Index := 0#32
  ![v2790.toNat, 0]

def k0_chk419 (i : grid0.Coords) (v13 : BitVec 32) (v2780 : BitVec 32) : Prop :=
  (∀ (k0_h5 : k0_cond5 i v13 = 1#1), 8 ∣ (k0_mult416 v2780).toNat) ∧
  (∀ (k0_h5 : k0_cond5 i v13 = 1#1), ∀ a, (k0_off1012 v2780) a + S8x128.size a ≤ S65536x128.size a) ∧
  (∀ (k0_h5 : k0_cond5 i v13 = 1#1), ∀ a, (k0_off1013 v2780) a + S1x128.size a ≤ S8192x128.size a)
theorem k0_mult416_dvd : ∀ (i : grid0.Coords) (v13 : BitVec 32) (v2780 : BitVec 32) (k0_hw419 : k0_chk419 i v13 v2780), ∀ (k0_h5 : k0_cond5 i v13 = 1#1), 8 ∣ (k0_mult416 v2780).toNat := fun i v13 v2780 k0_hw419 k0_h5 => k0_hw419.1 k0_h5
theorem k0_off1012_inb : ∀ (i : grid0.Coords) (v13 : BitVec 32) (v2780 : BitVec 32) (k0_hw419 : k0_chk419 i v13 v2780), ∀ (k0_h5 : k0_cond5 i v13 = 1#1), ∀ a, (k0_off1012 v2780) a + S8x128.size a ≤ S65536x128.size a := fun i v13 v2780 k0_hw419 k0_h5 => k0_hw419.2.1 k0_h5
theorem k0_off1013_inb : ∀ (i : grid0.Coords) (v13 : BitVec 32) (v2780 : BitVec 32) (k0_hw419 : k0_chk419 i v13 v2780), ∀ (k0_h5 : k0_cond5 i v13 = 1#1), ∀ a, (k0_off1013 v2780) a + S1x128.size a ≤ S8192x128.size a := fun i v13 v2780 k0_hw419 k0_h5 => k0_hw419.2.2 k0_h5

def k0_off1014 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c160_i32 : BitVec 32 := 160#32
  let v2795 : BitVec 32 := Scalar.addi v74 c160_i32
  let v2796 : Index := Scalar.indexCast v2795
  ![v2796.toNat]
def k0_mult417 (v2797 : BitVec 32) : BitVec 32 :=
  let c3_i32_1172 : BitVec 32 := 3#32
  let v2798 : BitVec 32 := Scalar.shrsi v2797 c3_i32_1172
  let c8191_i32_1173 : BitVec 32 := 8191#32
  let v2799 : BitVec 32 := Scalar.andi v2798 c8191_i32_1173
  let c8_i32_1174 : BitVec 32 := 8#32
  let v2800 : BitVec 32 := Scalar.muli v2799 c8_i32_1174
  v2800

def k0_off1015 (v2797 : BitVec 32) : Fin 2 → Nat :=
  let c3_i32_1172 : BitVec 32 := 3#32
  let v2798 : BitVec 32 := Scalar.shrsi v2797 c3_i32_1172
  let c8191_i32_1173 : BitVec 32 := 8191#32
  let v2799 : BitVec 32 := Scalar.andi v2798 c8191_i32_1173
  let c8_i32_1174 : BitVec 32 := 8#32
  let v2800 : BitVec 32 := Scalar.muli v2799 c8_i32_1174
  let v2801 : BitVec 32 := v2800
  let v2802 : Index := Scalar.indexCast v2801
  let c0_1175 : Index := 0#32
  ![v2802.toNat, 0]
def k0_off1016 (v2797 : BitVec 32) : Fin 2 → Nat :=
  let c3_i32_1172 : BitVec 32 := 3#32
  let v2798 : BitVec 32 := Scalar.shrsi v2797 c3_i32_1172
  let c8191_i32_1173 : BitVec 32 := 8191#32
  let v2799 : BitVec 32 := Scalar.andi v2798 c8191_i32_1173
  let v2807 : Index := Scalar.indexCast v2799
  let c0_1177 : Index := 0#32
  ![v2807.toNat, 0]

def k0_chk420 (i : grid0.Coords) (v13 : BitVec 32) (v2797 : BitVec 32) : Prop :=
  (∀ (k0_h5 : k0_cond5 i v13 = 1#1), 8 ∣ (k0_mult417 v2797).toNat) ∧
  (∀ (k0_h5 : k0_cond5 i v13 = 1#1), ∀ a, (k0_off1015 v2797) a + S8x128.size a ≤ S65536x128.size a) ∧
  (∀ (k0_h5 : k0_cond5 i v13 = 1#1), ∀ a, (k0_off1016 v2797) a + S1x128.size a ≤ S8192x128.size a)
theorem k0_mult417_dvd : ∀ (i : grid0.Coords) (v13 : BitVec 32) (v2797 : BitVec 32) (k0_hw420 : k0_chk420 i v13 v2797), ∀ (k0_h5 : k0_cond5 i v13 = 1#1), 8 ∣ (k0_mult417 v2797).toNat := fun i v13 v2797 k0_hw420 k0_h5 => k0_hw420.1 k0_h5
theorem k0_off1015_inb : ∀ (i : grid0.Coords) (v13 : BitVec 32) (v2797 : BitVec 32) (k0_hw420 : k0_chk420 i v13 v2797), ∀ (k0_h5 : k0_cond5 i v13 = 1#1), ∀ a, (k0_off1015 v2797) a + S8x128.size a ≤ S65536x128.size a := fun i v13 v2797 k0_hw420 k0_h5 => k0_hw420.2.1 k0_h5
theorem k0_off1016_inb : ∀ (i : grid0.Coords) (v13 : BitVec 32) (v2797 : BitVec 32) (k0_hw420 : k0_chk420 i v13 v2797), ∀ (k0_h5 : k0_cond5 i v13 = 1#1), ∀ a, (k0_off1016 v2797) a + S1x128.size a ≤ S8192x128.size a := fun i v13 v2797 k0_hw420 k0_h5 => k0_hw420.2.2 k0_h5

def k0_off1017 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c161_i32 : BitVec 32 := 161#32
  let v2812 : BitVec 32 := Scalar.addi v74 c161_i32
  let v2813 : Index := Scalar.indexCast v2812
  ![v2813.toNat]
def k0_mult418 (v2814 : BitVec 32) : BitVec 32 :=
  let c3_i32_1180 : BitVec 32 := 3#32
  let v2815 : BitVec 32 := Scalar.shrsi v2814 c3_i32_1180
  let c8191_i32_1181 : BitVec 32 := 8191#32
  let v2816 : BitVec 32 := Scalar.andi v2815 c8191_i32_1181
  let c8_i32_1182 : BitVec 32 := 8#32
  let v2817 : BitVec 32 := Scalar.muli v2816 c8_i32_1182
  v2817

def k0_off1018 (v2814 : BitVec 32) : Fin 2 → Nat :=
  let c3_i32_1180 : BitVec 32 := 3#32
  let v2815 : BitVec 32 := Scalar.shrsi v2814 c3_i32_1180
  let c8191_i32_1181 : BitVec 32 := 8191#32
  let v2816 : BitVec 32 := Scalar.andi v2815 c8191_i32_1181
  let c8_i32_1182 : BitVec 32 := 8#32
  let v2817 : BitVec 32 := Scalar.muli v2816 c8_i32_1182
  let v2818 : BitVec 32 := v2817
  let v2819 : Index := Scalar.indexCast v2818
  let c0_1183 : Index := 0#32
  ![v2819.toNat, 0]
def k0_off1019 (v2814 : BitVec 32) : Fin 2 → Nat :=
  let c3_i32_1180 : BitVec 32 := 3#32
  let v2815 : BitVec 32 := Scalar.shrsi v2814 c3_i32_1180
  let c8191_i32_1181 : BitVec 32 := 8191#32
  let v2816 : BitVec 32 := Scalar.andi v2815 c8191_i32_1181
  let v2824 : Index := Scalar.indexCast v2816
  let c0_1185 : Index := 0#32
  ![v2824.toNat, 0]

def k0_chk421 (i : grid0.Coords) (v13 : BitVec 32) (v2814 : BitVec 32) : Prop :=
  (∀ (k0_h5 : k0_cond5 i v13 = 1#1), 8 ∣ (k0_mult418 v2814).toNat) ∧
  (∀ (k0_h5 : k0_cond5 i v13 = 1#1), ∀ a, (k0_off1018 v2814) a + S8x128.size a ≤ S65536x128.size a) ∧
  (∀ (k0_h5 : k0_cond5 i v13 = 1#1), ∀ a, (k0_off1019 v2814) a + S1x128.size a ≤ S8192x128.size a)
theorem k0_mult418_dvd : ∀ (i : grid0.Coords) (v13 : BitVec 32) (v2814 : BitVec 32) (k0_hw421 : k0_chk421 i v13 v2814), ∀ (k0_h5 : k0_cond5 i v13 = 1#1), 8 ∣ (k0_mult418 v2814).toNat := fun i v13 v2814 k0_hw421 k0_h5 => k0_hw421.1 k0_h5
theorem k0_off1018_inb : ∀ (i : grid0.Coords) (v13 : BitVec 32) (v2814 : BitVec 32) (k0_hw421 : k0_chk421 i v13 v2814), ∀ (k0_h5 : k0_cond5 i v13 = 1#1), ∀ a, (k0_off1018 v2814) a + S8x128.size a ≤ S65536x128.size a := fun i v13 v2814 k0_hw421 k0_h5 => k0_hw421.2.1 k0_h5
theorem k0_off1019_inb : ∀ (i : grid0.Coords) (v13 : BitVec 32) (v2814 : BitVec 32) (k0_hw421 : k0_chk421 i v13 v2814), ∀ (k0_h5 : k0_cond5 i v13 = 1#1), ∀ a, (k0_off1019 v2814) a + S1x128.size a ≤ S8192x128.size a := fun i v13 v2814 k0_hw421 k0_h5 => k0_hw421.2.2 k0_h5

def k0_off1020 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c162_i32 : BitVec 32 := 162#32
  let v2829 : BitVec 32 := Scalar.addi v74 c162_i32
  let v2830 : Index := Scalar.indexCast v2829
  ![v2830.toNat]
def k0_mult419 (v2831 : BitVec 32) : BitVec 32 :=
  let c3_i32_1187 : BitVec 32 := 3#32
  let v2832 : BitVec 32 := Scalar.shrsi v2831 c3_i32_1187
  let c8191_i32_1188 : BitVec 32 := 8191#32
  let v2833 : BitVec 32 := Scalar.andi v2832 c8191_i32_1188
  let c8_i32_1189 : BitVec 32 := 8#32
  let v2834 : BitVec 32 := Scalar.muli v2833 c8_i32_1189
  v2834

def k0_off1021 (v2831 : BitVec 32) : Fin 2 → Nat :=
  let c3_i32_1187 : BitVec 32 := 3#32
  let v2832 : BitVec 32 := Scalar.shrsi v2831 c3_i32_1187
  let c8191_i32_1188 : BitVec 32 := 8191#32
  let v2833 : BitVec 32 := Scalar.andi v2832 c8191_i32_1188
  let c8_i32_1189 : BitVec 32 := 8#32
  let v2834 : BitVec 32 := Scalar.muli v2833 c8_i32_1189
  let v2835 : BitVec 32 := v2834
  let v2836 : Index := Scalar.indexCast v2835
  let c0_1190 : Index := 0#32
  ![v2836.toNat, 0]
def k0_off1022 (v2831 : BitVec 32) : Fin 2 → Nat :=
  let c3_i32_1187 : BitVec 32 := 3#32
  let v2832 : BitVec 32 := Scalar.shrsi v2831 c3_i32_1187
  let c8191_i32_1188 : BitVec 32 := 8191#32
  let v2833 : BitVec 32 := Scalar.andi v2832 c8191_i32_1188
  let v2841 : Index := Scalar.indexCast v2833
  let c0_1192 : Index := 0#32
  ![v2841.toNat, 0]

def k0_chk422 (i : grid0.Coords) (v13 : BitVec 32) (v2831 : BitVec 32) : Prop :=
  (∀ (k0_h5 : k0_cond5 i v13 = 1#1), 8 ∣ (k0_mult419 v2831).toNat) ∧
  (∀ (k0_h5 : k0_cond5 i v13 = 1#1), ∀ a, (k0_off1021 v2831) a + S8x128.size a ≤ S65536x128.size a) ∧
  (∀ (k0_h5 : k0_cond5 i v13 = 1#1), ∀ a, (k0_off1022 v2831) a + S1x128.size a ≤ S8192x128.size a)
theorem k0_mult419_dvd : ∀ (i : grid0.Coords) (v13 : BitVec 32) (v2831 : BitVec 32) (k0_hw422 : k0_chk422 i v13 v2831), ∀ (k0_h5 : k0_cond5 i v13 = 1#1), 8 ∣ (k0_mult419 v2831).toNat := fun i v13 v2831 k0_hw422 k0_h5 => k0_hw422.1 k0_h5
theorem k0_off1021_inb : ∀ (i : grid0.Coords) (v13 : BitVec 32) (v2831 : BitVec 32) (k0_hw422 : k0_chk422 i v13 v2831), ∀ (k0_h5 : k0_cond5 i v13 = 1#1), ∀ a, (k0_off1021 v2831) a + S8x128.size a ≤ S65536x128.size a := fun i v13 v2831 k0_hw422 k0_h5 => k0_hw422.2.1 k0_h5
theorem k0_off1022_inb : ∀ (i : grid0.Coords) (v13 : BitVec 32) (v2831 : BitVec 32) (k0_hw422 : k0_chk422 i v13 v2831), ∀ (k0_h5 : k0_cond5 i v13 = 1#1), ∀ a, (k0_off1022 v2831) a + S1x128.size a ≤ S8192x128.size a := fun i v13 v2831 k0_hw422 k0_h5 => k0_hw422.2.2 k0_h5

def k0_off1023 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c163_i32 : BitVec 32 := 163#32
  let v2846 : BitVec 32 := Scalar.addi v74 c163_i32
  let v2847 : Index := Scalar.indexCast v2846
  ![v2847.toNat]
def k0_mult420 (v2848 : BitVec 32) : BitVec 32 :=
  let c3_i32_1194 : BitVec 32 := 3#32
  let v2849 : BitVec 32 := Scalar.shrsi v2848 c3_i32_1194
  let c8191_i32_1195 : BitVec 32 := 8191#32
  let v2850 : BitVec 32 := Scalar.andi v2849 c8191_i32_1195
  let c8_i32_1196 : BitVec 32 := 8#32
  let v2851 : BitVec 32 := Scalar.muli v2850 c8_i32_1196
  v2851

def k0_off1024 (v2848 : BitVec 32) : Fin 2 → Nat :=
  let c3_i32_1194 : BitVec 32 := 3#32
  let v2849 : BitVec 32 := Scalar.shrsi v2848 c3_i32_1194
  let c8191_i32_1195 : BitVec 32 := 8191#32
  let v2850 : BitVec 32 := Scalar.andi v2849 c8191_i32_1195
  let c8_i32_1196 : BitVec 32 := 8#32
  let v2851 : BitVec 32 := Scalar.muli v2850 c8_i32_1196
  let v2852 : BitVec 32 := v2851
  let v2853 : Index := Scalar.indexCast v2852
  let c0_1197 : Index := 0#32
  ![v2853.toNat, 0]
def k0_off1025 (v2848 : BitVec 32) : Fin 2 → Nat :=
  let c3_i32_1194 : BitVec 32 := 3#32
  let v2849 : BitVec 32 := Scalar.shrsi v2848 c3_i32_1194
  let c8191_i32_1195 : BitVec 32 := 8191#32
  let v2850 : BitVec 32 := Scalar.andi v2849 c8191_i32_1195
  let v2858 : Index := Scalar.indexCast v2850
  let c0_1199 : Index := 0#32
  ![v2858.toNat, 0]

def k0_chk423 (i : grid0.Coords) (v13 : BitVec 32) (v2848 : BitVec 32) : Prop :=
  (∀ (k0_h5 : k0_cond5 i v13 = 1#1), 8 ∣ (k0_mult420 v2848).toNat) ∧
  (∀ (k0_h5 : k0_cond5 i v13 = 1#1), ∀ a, (k0_off1024 v2848) a + S8x128.size a ≤ S65536x128.size a) ∧
  (∀ (k0_h5 : k0_cond5 i v13 = 1#1), ∀ a, (k0_off1025 v2848) a + S1x128.size a ≤ S8192x128.size a)
theorem k0_mult420_dvd : ∀ (i : grid0.Coords) (v13 : BitVec 32) (v2848 : BitVec 32) (k0_hw423 : k0_chk423 i v13 v2848), ∀ (k0_h5 : k0_cond5 i v13 = 1#1), 8 ∣ (k0_mult420 v2848).toNat := fun i v13 v2848 k0_hw423 k0_h5 => k0_hw423.1 k0_h5
theorem k0_off1024_inb : ∀ (i : grid0.Coords) (v13 : BitVec 32) (v2848 : BitVec 32) (k0_hw423 : k0_chk423 i v13 v2848), ∀ (k0_h5 : k0_cond5 i v13 = 1#1), ∀ a, (k0_off1024 v2848) a + S8x128.size a ≤ S65536x128.size a := fun i v13 v2848 k0_hw423 k0_h5 => k0_hw423.2.1 k0_h5
theorem k0_off1025_inb : ∀ (i : grid0.Coords) (v13 : BitVec 32) (v2848 : BitVec 32) (k0_hw423 : k0_chk423 i v13 v2848), ∀ (k0_h5 : k0_cond5 i v13 = 1#1), ∀ a, (k0_off1025 v2848) a + S1x128.size a ≤ S8192x128.size a := fun i v13 v2848 k0_hw423 k0_h5 => k0_hw423.2.2 k0_h5

def k0_off1026 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c164_i32 : BitVec 32 := 164#32
  let v2863 : BitVec 32 := Scalar.addi v74 c164_i32
  let v2864 : Index := Scalar.indexCast v2863
  ![v2864.toNat]
def k0_mult421 (v2865 : BitVec 32) : BitVec 32 :=
  let c3_i32_1201 : BitVec 32 := 3#32
  let v2866 : BitVec 32 := Scalar.shrsi v2865 c3_i32_1201
  let c8191_i32_1202 : BitVec 32 := 8191#32
  let v2867 : BitVec 32 := Scalar.andi v2866 c8191_i32_1202
  let c8_i32_1203 : BitVec 32 := 8#32
  let v2868 : BitVec 32 := Scalar.muli v2867 c8_i32_1203
  v2868

def k0_off1027 (v2865 : BitVec 32) : Fin 2 → Nat :=
  let c3_i32_1201 : BitVec 32 := 3#32
  let v2866 : BitVec 32 := Scalar.shrsi v2865 c3_i32_1201
  let c8191_i32_1202 : BitVec 32 := 8191#32
  let v2867 : BitVec 32 := Scalar.andi v2866 c8191_i32_1202
  let c8_i32_1203 : BitVec 32 := 8#32
  let v2868 : BitVec 32 := Scalar.muli v2867 c8_i32_1203
  let v2869 : BitVec 32 := v2868
  let v2870 : Index := Scalar.indexCast v2869
  let c0_1204 : Index := 0#32
  ![v2870.toNat, 0]
def k0_off1028 (v2865 : BitVec 32) : Fin 2 → Nat :=
  let c3_i32_1201 : BitVec 32 := 3#32
  let v2866 : BitVec 32 := Scalar.shrsi v2865 c3_i32_1201
  let c8191_i32_1202 : BitVec 32 := 8191#32
  let v2867 : BitVec 32 := Scalar.andi v2866 c8191_i32_1202
  let v2875 : Index := Scalar.indexCast v2867
  let c0_1206 : Index := 0#32
  ![v2875.toNat, 0]

def k0_chk424 (i : grid0.Coords) (v13 : BitVec 32) (v2865 : BitVec 32) : Prop :=
  (∀ (k0_h5 : k0_cond5 i v13 = 1#1), 8 ∣ (k0_mult421 v2865).toNat) ∧
  (∀ (k0_h5 : k0_cond5 i v13 = 1#1), ∀ a, (k0_off1027 v2865) a + S8x128.size a ≤ S65536x128.size a) ∧
  (∀ (k0_h5 : k0_cond5 i v13 = 1#1), ∀ a, (k0_off1028 v2865) a + S1x128.size a ≤ S8192x128.size a)
theorem k0_mult421_dvd : ∀ (i : grid0.Coords) (v13 : BitVec 32) (v2865 : BitVec 32) (k0_hw424 : k0_chk424 i v13 v2865), ∀ (k0_h5 : k0_cond5 i v13 = 1#1), 8 ∣ (k0_mult421 v2865).toNat := fun i v13 v2865 k0_hw424 k0_h5 => k0_hw424.1 k0_h5
theorem k0_off1027_inb : ∀ (i : grid0.Coords) (v13 : BitVec 32) (v2865 : BitVec 32) (k0_hw424 : k0_chk424 i v13 v2865), ∀ (k0_h5 : k0_cond5 i v13 = 1#1), ∀ a, (k0_off1027 v2865) a + S8x128.size a ≤ S65536x128.size a := fun i v13 v2865 k0_hw424 k0_h5 => k0_hw424.2.1 k0_h5
theorem k0_off1028_inb : ∀ (i : grid0.Coords) (v13 : BitVec 32) (v2865 : BitVec 32) (k0_hw424 : k0_chk424 i v13 v2865), ∀ (k0_h5 : k0_cond5 i v13 = 1#1), ∀ a, (k0_off1028 v2865) a + S1x128.size a ≤ S8192x128.size a := fun i v13 v2865 k0_hw424 k0_h5 => k0_hw424.2.2 k0_h5

def k0_off1029 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c165_i32 : BitVec 32 := 165#32
  let v2880 : BitVec 32 := Scalar.addi v74 c165_i32
  let v2881 : Index := Scalar.indexCast v2880
  ![v2881.toNat]
def k0_mult422 (v2882 : BitVec 32) : BitVec 32 :=
  let c3_i32_1208 : BitVec 32 := 3#32
  let v2883 : BitVec 32 := Scalar.shrsi v2882 c3_i32_1208
  let c8191_i32_1209 : BitVec 32 := 8191#32
  let v2884 : BitVec 32 := Scalar.andi v2883 c8191_i32_1209
  let c8_i32_1210 : BitVec 32 := 8#32
  let v2885 : BitVec 32 := Scalar.muli v2884 c8_i32_1210
  v2885

def k0_off1030 (v2882 : BitVec 32) : Fin 2 → Nat :=
  let c3_i32_1208 : BitVec 32 := 3#32
  let v2883 : BitVec 32 := Scalar.shrsi v2882 c3_i32_1208
  let c8191_i32_1209 : BitVec 32 := 8191#32
  let v2884 : BitVec 32 := Scalar.andi v2883 c8191_i32_1209
  let c8_i32_1210 : BitVec 32 := 8#32
  let v2885 : BitVec 32 := Scalar.muli v2884 c8_i32_1210
  let v2886 : BitVec 32 := v2885
  let v2887 : Index := Scalar.indexCast v2886
  let c0_1211 : Index := 0#32
  ![v2887.toNat, 0]
def k0_off1031 (v2882 : BitVec 32) : Fin 2 → Nat :=
  let c3_i32_1208 : BitVec 32 := 3#32
  let v2883 : BitVec 32 := Scalar.shrsi v2882 c3_i32_1208
  let c8191_i32_1209 : BitVec 32 := 8191#32
  let v2884 : BitVec 32 := Scalar.andi v2883 c8191_i32_1209
  let v2892 : Index := Scalar.indexCast v2884
  let c0_1213 : Index := 0#32
  ![v2892.toNat, 0]

def k0_chk425 (i : grid0.Coords) (v13 : BitVec 32) (v2882 : BitVec 32) : Prop :=
  (∀ (k0_h5 : k0_cond5 i v13 = 1#1), 8 ∣ (k0_mult422 v2882).toNat) ∧
  (∀ (k0_h5 : k0_cond5 i v13 = 1#1), ∀ a, (k0_off1030 v2882) a + S8x128.size a ≤ S65536x128.size a) ∧
  (∀ (k0_h5 : k0_cond5 i v13 = 1#1), ∀ a, (k0_off1031 v2882) a + S1x128.size a ≤ S8192x128.size a)
theorem k0_mult422_dvd : ∀ (i : grid0.Coords) (v13 : BitVec 32) (v2882 : BitVec 32) (k0_hw425 : k0_chk425 i v13 v2882), ∀ (k0_h5 : k0_cond5 i v13 = 1#1), 8 ∣ (k0_mult422 v2882).toNat := fun i v13 v2882 k0_hw425 k0_h5 => k0_hw425.1 k0_h5
theorem k0_off1030_inb : ∀ (i : grid0.Coords) (v13 : BitVec 32) (v2882 : BitVec 32) (k0_hw425 : k0_chk425 i v13 v2882), ∀ (k0_h5 : k0_cond5 i v13 = 1#1), ∀ a, (k0_off1030 v2882) a + S8x128.size a ≤ S65536x128.size a := fun i v13 v2882 k0_hw425 k0_h5 => k0_hw425.2.1 k0_h5
theorem k0_off1031_inb : ∀ (i : grid0.Coords) (v13 : BitVec 32) (v2882 : BitVec 32) (k0_hw425 : k0_chk425 i v13 v2882), ∀ (k0_h5 : k0_cond5 i v13 = 1#1), ∀ a, (k0_off1031 v2882) a + S1x128.size a ≤ S8192x128.size a := fun i v13 v2882 k0_hw425 k0_h5 => k0_hw425.2.2 k0_h5

def k0_off1032 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c166_i32 : BitVec 32 := 166#32
  let v2897 : BitVec 32 := Scalar.addi v74 c166_i32
  let v2898 : Index := Scalar.indexCast v2897
  ![v2898.toNat]
def k0_mult423 (v2899 : BitVec 32) : BitVec 32 :=
  let c3_i32_1215 : BitVec 32 := 3#32
  let v2900 : BitVec 32 := Scalar.shrsi v2899 c3_i32_1215
  let c8191_i32_1216 : BitVec 32 := 8191#32
  let v2901 : BitVec 32 := Scalar.andi v2900 c8191_i32_1216
  let c8_i32_1217 : BitVec 32 := 8#32
  let v2902 : BitVec 32 := Scalar.muli v2901 c8_i32_1217
  v2902

def k0_off1033 (v2899 : BitVec 32) : Fin 2 → Nat :=
  let c3_i32_1215 : BitVec 32 := 3#32
  let v2900 : BitVec 32 := Scalar.shrsi v2899 c3_i32_1215
  let c8191_i32_1216 : BitVec 32 := 8191#32
  let v2901 : BitVec 32 := Scalar.andi v2900 c8191_i32_1216
  let c8_i32_1217 : BitVec 32 := 8#32
  let v2902 : BitVec 32 := Scalar.muli v2901 c8_i32_1217
  let v2903 : BitVec 32 := v2902
  let v2904 : Index := Scalar.indexCast v2903
  let c0_1218 : Index := 0#32
  ![v2904.toNat, 0]
def k0_off1034 (v2899 : BitVec 32) : Fin 2 → Nat :=
  let c3_i32_1215 : BitVec 32 := 3#32
  let v2900 : BitVec 32 := Scalar.shrsi v2899 c3_i32_1215
  let c8191_i32_1216 : BitVec 32 := 8191#32
  let v2901 : BitVec 32 := Scalar.andi v2900 c8191_i32_1216
  let v2909 : Index := Scalar.indexCast v2901
  let c0_1220 : Index := 0#32
  ![v2909.toNat, 0]

def k0_chk426 (i : grid0.Coords) (v13 : BitVec 32) (v2899 : BitVec 32) : Prop :=
  (∀ (k0_h5 : k0_cond5 i v13 = 1#1), 8 ∣ (k0_mult423 v2899).toNat) ∧
  (∀ (k0_h5 : k0_cond5 i v13 = 1#1), ∀ a, (k0_off1033 v2899) a + S8x128.size a ≤ S65536x128.size a) ∧
  (∀ (k0_h5 : k0_cond5 i v13 = 1#1), ∀ a, (k0_off1034 v2899) a + S1x128.size a ≤ S8192x128.size a)
theorem k0_mult423_dvd : ∀ (i : grid0.Coords) (v13 : BitVec 32) (v2899 : BitVec 32) (k0_hw426 : k0_chk426 i v13 v2899), ∀ (k0_h5 : k0_cond5 i v13 = 1#1), 8 ∣ (k0_mult423 v2899).toNat := fun i v13 v2899 k0_hw426 k0_h5 => k0_hw426.1 k0_h5
theorem k0_off1033_inb : ∀ (i : grid0.Coords) (v13 : BitVec 32) (v2899 : BitVec 32) (k0_hw426 : k0_chk426 i v13 v2899), ∀ (k0_h5 : k0_cond5 i v13 = 1#1), ∀ a, (k0_off1033 v2899) a + S8x128.size a ≤ S65536x128.size a := fun i v13 v2899 k0_hw426 k0_h5 => k0_hw426.2.1 k0_h5
theorem k0_off1034_inb : ∀ (i : grid0.Coords) (v13 : BitVec 32) (v2899 : BitVec 32) (k0_hw426 : k0_chk426 i v13 v2899), ∀ (k0_h5 : k0_cond5 i v13 = 1#1), ∀ a, (k0_off1034 v2899) a + S1x128.size a ≤ S8192x128.size a := fun i v13 v2899 k0_hw426 k0_h5 => k0_hw426.2.2 k0_h5

def k0_off1035 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c167_i32 : BitVec 32 := 167#32
  let v2914 : BitVec 32 := Scalar.addi v74 c167_i32
  let v2915 : Index := Scalar.indexCast v2914
  ![v2915.toNat]
def k0_mult424 (v2916 : BitVec 32) : BitVec 32 :=
  let c3_i32_1222 : BitVec 32 := 3#32
  let v2917 : BitVec 32 := Scalar.shrsi v2916 c3_i32_1222
  let c8191_i32_1223 : BitVec 32 := 8191#32
  let v2918 : BitVec 32 := Scalar.andi v2917 c8191_i32_1223
  let c8_i32_1224 : BitVec 32 := 8#32
  let v2919 : BitVec 32 := Scalar.muli v2918 c8_i32_1224
  v2919

def k0_off1036 (v2916 : BitVec 32) : Fin 2 → Nat :=
  let c3_i32_1222 : BitVec 32 := 3#32
  let v2917 : BitVec 32 := Scalar.shrsi v2916 c3_i32_1222
  let c8191_i32_1223 : BitVec 32 := 8191#32
  let v2918 : BitVec 32 := Scalar.andi v2917 c8191_i32_1223
  let c8_i32_1224 : BitVec 32 := 8#32
  let v2919 : BitVec 32 := Scalar.muli v2918 c8_i32_1224
  let v2920 : BitVec 32 := v2919
  let v2921 : Index := Scalar.indexCast v2920
  let c0_1225 : Index := 0#32
  ![v2921.toNat, 0]
def k0_off1037 (v2916 : BitVec 32) : Fin 2 → Nat :=
  let c3_i32_1222 : BitVec 32 := 3#32
  let v2917 : BitVec 32 := Scalar.shrsi v2916 c3_i32_1222
  let c8191_i32_1223 : BitVec 32 := 8191#32
  let v2918 : BitVec 32 := Scalar.andi v2917 c8191_i32_1223
  let v2926 : Index := Scalar.indexCast v2918
  let c0_1227 : Index := 0#32
  ![v2926.toNat, 0]

def k0_chk427 (i : grid0.Coords) (v13 : BitVec 32) (v2916 : BitVec 32) : Prop :=
  (∀ (k0_h5 : k0_cond5 i v13 = 1#1), 8 ∣ (k0_mult424 v2916).toNat) ∧
  (∀ (k0_h5 : k0_cond5 i v13 = 1#1), ∀ a, (k0_off1036 v2916) a + S8x128.size a ≤ S65536x128.size a) ∧
  (∀ (k0_h5 : k0_cond5 i v13 = 1#1), ∀ a, (k0_off1037 v2916) a + S1x128.size a ≤ S8192x128.size a)
theorem k0_mult424_dvd : ∀ (i : grid0.Coords) (v13 : BitVec 32) (v2916 : BitVec 32) (k0_hw427 : k0_chk427 i v13 v2916), ∀ (k0_h5 : k0_cond5 i v13 = 1#1), 8 ∣ (k0_mult424 v2916).toNat := fun i v13 v2916 k0_hw427 k0_h5 => k0_hw427.1 k0_h5
theorem k0_off1036_inb : ∀ (i : grid0.Coords) (v13 : BitVec 32) (v2916 : BitVec 32) (k0_hw427 : k0_chk427 i v13 v2916), ∀ (k0_h5 : k0_cond5 i v13 = 1#1), ∀ a, (k0_off1036 v2916) a + S8x128.size a ≤ S65536x128.size a := fun i v13 v2916 k0_hw427 k0_h5 => k0_hw427.2.1 k0_h5
theorem k0_off1037_inb : ∀ (i : grid0.Coords) (v13 : BitVec 32) (v2916 : BitVec 32) (k0_hw427 : k0_chk427 i v13 v2916), ∀ (k0_h5 : k0_cond5 i v13 = 1#1), ∀ a, (k0_off1037 v2916) a + S1x128.size a ≤ S8192x128.size a := fun i v13 v2916 k0_hw427 k0_h5 => k0_hw427.2.2 k0_h5

def k0_off1038 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c168_i32 : BitVec 32 := 168#32
  let v2931 : BitVec 32 := Scalar.addi v74 c168_i32
  let v2932 : Index := Scalar.indexCast v2931
  ![v2932.toNat]
def k0_mult425 (v2933 : BitVec 32) : BitVec 32 :=
  let c3_i32_1229 : BitVec 32 := 3#32
  let v2934 : BitVec 32 := Scalar.shrsi v2933 c3_i32_1229
  let c8191_i32_1230 : BitVec 32 := 8191#32
  let v2935 : BitVec 32 := Scalar.andi v2934 c8191_i32_1230
  let c8_i32_1231 : BitVec 32 := 8#32
  let v2936 : BitVec 32 := Scalar.muli v2935 c8_i32_1231
  v2936

def k0_off1039 (v2933 : BitVec 32) : Fin 2 → Nat :=
  let c3_i32_1229 : BitVec 32 := 3#32
  let v2934 : BitVec 32 := Scalar.shrsi v2933 c3_i32_1229
  let c8191_i32_1230 : BitVec 32 := 8191#32
  let v2935 : BitVec 32 := Scalar.andi v2934 c8191_i32_1230
  let c8_i32_1231 : BitVec 32 := 8#32
  let v2936 : BitVec 32 := Scalar.muli v2935 c8_i32_1231
  let v2937 : BitVec 32 := v2936
  let v2938 : Index := Scalar.indexCast v2937
  let c0_1232 : Index := 0#32
  ![v2938.toNat, 0]
def k0_off1040 (v2933 : BitVec 32) : Fin 2 → Nat :=
  let c3_i32_1229 : BitVec 32 := 3#32
  let v2934 : BitVec 32 := Scalar.shrsi v2933 c3_i32_1229
  let c8191_i32_1230 : BitVec 32 := 8191#32
  let v2935 : BitVec 32 := Scalar.andi v2934 c8191_i32_1230
  let v2943 : Index := Scalar.indexCast v2935
  let c0_1234 : Index := 0#32
  ![v2943.toNat, 0]

def k0_chk428 (i : grid0.Coords) (v13 : BitVec 32) (v2933 : BitVec 32) : Prop :=
  (∀ (k0_h5 : k0_cond5 i v13 = 1#1), 8 ∣ (k0_mult425 v2933).toNat) ∧
  (∀ (k0_h5 : k0_cond5 i v13 = 1#1), ∀ a, (k0_off1039 v2933) a + S8x128.size a ≤ S65536x128.size a) ∧
  (∀ (k0_h5 : k0_cond5 i v13 = 1#1), ∀ a, (k0_off1040 v2933) a + S1x128.size a ≤ S8192x128.size a)
theorem k0_mult425_dvd : ∀ (i : grid0.Coords) (v13 : BitVec 32) (v2933 : BitVec 32) (k0_hw428 : k0_chk428 i v13 v2933), ∀ (k0_h5 : k0_cond5 i v13 = 1#1), 8 ∣ (k0_mult425 v2933).toNat := fun i v13 v2933 k0_hw428 k0_h5 => k0_hw428.1 k0_h5
theorem k0_off1039_inb : ∀ (i : grid0.Coords) (v13 : BitVec 32) (v2933 : BitVec 32) (k0_hw428 : k0_chk428 i v13 v2933), ∀ (k0_h5 : k0_cond5 i v13 = 1#1), ∀ a, (k0_off1039 v2933) a + S8x128.size a ≤ S65536x128.size a := fun i v13 v2933 k0_hw428 k0_h5 => k0_hw428.2.1 k0_h5
theorem k0_off1040_inb : ∀ (i : grid0.Coords) (v13 : BitVec 32) (v2933 : BitVec 32) (k0_hw428 : k0_chk428 i v13 v2933), ∀ (k0_h5 : k0_cond5 i v13 = 1#1), ∀ a, (k0_off1040 v2933) a + S1x128.size a ≤ S8192x128.size a := fun i v13 v2933 k0_hw428 k0_h5 => k0_hw428.2.2 k0_h5

def k0_off1041 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c169_i32 : BitVec 32 := 169#32
  let v2948 : BitVec 32 := Scalar.addi v74 c169_i32
  let v2949 : Index := Scalar.indexCast v2948
  ![v2949.toNat]
def k0_mult426 (v2950 : BitVec 32) : BitVec 32 :=
  let c3_i32_1237 : BitVec 32 := 3#32
  let v2951 : BitVec 32 := Scalar.shrsi v2950 c3_i32_1237
  let c8191_i32_1238 : BitVec 32 := 8191#32
  let v2952 : BitVec 32 := Scalar.andi v2951 c8191_i32_1238
  let c8_i32_1239 : BitVec 32 := 8#32
  let v2953 : BitVec 32 := Scalar.muli v2952 c8_i32_1239
  v2953

def k0_off1042 (v2950 : BitVec 32) : Fin 2 → Nat :=
  let c3_i32_1237 : BitVec 32 := 3#32
  let v2951 : BitVec 32 := Scalar.shrsi v2950 c3_i32_1237
  let c8191_i32_1238 : BitVec 32 := 8191#32
  let v2952 : BitVec 32 := Scalar.andi v2951 c8191_i32_1238
  let c8_i32_1239 : BitVec 32 := 8#32
  let v2953 : BitVec 32 := Scalar.muli v2952 c8_i32_1239
  let v2954 : BitVec 32 := v2953
  let v2955 : Index := Scalar.indexCast v2954
  let c0_1240 : Index := 0#32
  ![v2955.toNat, 0]
def k0_off1043 (v2950 : BitVec 32) : Fin 2 → Nat :=
  let c3_i32_1237 : BitVec 32 := 3#32
  let v2951 : BitVec 32 := Scalar.shrsi v2950 c3_i32_1237
  let c8191_i32_1238 : BitVec 32 := 8191#32
  let v2952 : BitVec 32 := Scalar.andi v2951 c8191_i32_1238
  let v2960 : Index := Scalar.indexCast v2952
  let c0_1242 : Index := 0#32
  ![v2960.toNat, 0]

def k0_chk429 (i : grid0.Coords) (v13 : BitVec 32) (v2950 : BitVec 32) : Prop :=
  (∀ (k0_h5 : k0_cond5 i v13 = 1#1), 8 ∣ (k0_mult426 v2950).toNat) ∧
  (∀ (k0_h5 : k0_cond5 i v13 = 1#1), ∀ a, (k0_off1042 v2950) a + S8x128.size a ≤ S65536x128.size a) ∧
  (∀ (k0_h5 : k0_cond5 i v13 = 1#1), ∀ a, (k0_off1043 v2950) a + S1x128.size a ≤ S8192x128.size a)
theorem k0_mult426_dvd : ∀ (i : grid0.Coords) (v13 : BitVec 32) (v2950 : BitVec 32) (k0_hw429 : k0_chk429 i v13 v2950), ∀ (k0_h5 : k0_cond5 i v13 = 1#1), 8 ∣ (k0_mult426 v2950).toNat := fun i v13 v2950 k0_hw429 k0_h5 => k0_hw429.1 k0_h5
theorem k0_off1042_inb : ∀ (i : grid0.Coords) (v13 : BitVec 32) (v2950 : BitVec 32) (k0_hw429 : k0_chk429 i v13 v2950), ∀ (k0_h5 : k0_cond5 i v13 = 1#1), ∀ a, (k0_off1042 v2950) a + S8x128.size a ≤ S65536x128.size a := fun i v13 v2950 k0_hw429 k0_h5 => k0_hw429.2.1 k0_h5
theorem k0_off1043_inb : ∀ (i : grid0.Coords) (v13 : BitVec 32) (v2950 : BitVec 32) (k0_hw429 : k0_chk429 i v13 v2950), ∀ (k0_h5 : k0_cond5 i v13 = 1#1), ∀ a, (k0_off1043 v2950) a + S1x128.size a ≤ S8192x128.size a := fun i v13 v2950 k0_hw429 k0_h5 => k0_hw429.2.2 k0_h5

def k0_off1044 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c170_i32 : BitVec 32 := 170#32
  let v2965 : BitVec 32 := Scalar.addi v74 c170_i32
  let v2966 : Index := Scalar.indexCast v2965
  ![v2966.toNat]
def k0_mult427 (v2967 : BitVec 32) : BitVec 32 :=
  let c3_i32_1244 : BitVec 32 := 3#32
  let v2968 : BitVec 32 := Scalar.shrsi v2967 c3_i32_1244
  let c8191_i32_1245 : BitVec 32 := 8191#32
  let v2969 : BitVec 32 := Scalar.andi v2968 c8191_i32_1245
  let c8_i32_1246 : BitVec 32 := 8#32
  let v2970 : BitVec 32 := Scalar.muli v2969 c8_i32_1246
  v2970

def k0_off1045 (v2967 : BitVec 32) : Fin 2 → Nat :=
  let c3_i32_1244 : BitVec 32 := 3#32
  let v2968 : BitVec 32 := Scalar.shrsi v2967 c3_i32_1244
  let c8191_i32_1245 : BitVec 32 := 8191#32
  let v2969 : BitVec 32 := Scalar.andi v2968 c8191_i32_1245
  let c8_i32_1246 : BitVec 32 := 8#32
  let v2970 : BitVec 32 := Scalar.muli v2969 c8_i32_1246
  let v2971 : BitVec 32 := v2970
  let v2972 : Index := Scalar.indexCast v2971
  let c0_1247 : Index := 0#32
  ![v2972.toNat, 0]
def k0_off1046 (v2967 : BitVec 32) : Fin 2 → Nat :=
  let c3_i32_1244 : BitVec 32 := 3#32
  let v2968 : BitVec 32 := Scalar.shrsi v2967 c3_i32_1244
  let c8191_i32_1245 : BitVec 32 := 8191#32
  let v2969 : BitVec 32 := Scalar.andi v2968 c8191_i32_1245
  let v2977 : Index := Scalar.indexCast v2969
  let c0_1249 : Index := 0#32
  ![v2977.toNat, 0]

def k0_chk430 (i : grid0.Coords) (v13 : BitVec 32) (v2967 : BitVec 32) : Prop :=
  (∀ (k0_h5 : k0_cond5 i v13 = 1#1), 8 ∣ (k0_mult427 v2967).toNat) ∧
  (∀ (k0_h5 : k0_cond5 i v13 = 1#1), ∀ a, (k0_off1045 v2967) a + S8x128.size a ≤ S65536x128.size a) ∧
  (∀ (k0_h5 : k0_cond5 i v13 = 1#1), ∀ a, (k0_off1046 v2967) a + S1x128.size a ≤ S8192x128.size a)
theorem k0_mult427_dvd : ∀ (i : grid0.Coords) (v13 : BitVec 32) (v2967 : BitVec 32) (k0_hw430 : k0_chk430 i v13 v2967), ∀ (k0_h5 : k0_cond5 i v13 = 1#1), 8 ∣ (k0_mult427 v2967).toNat := fun i v13 v2967 k0_hw430 k0_h5 => k0_hw430.1 k0_h5
theorem k0_off1045_inb : ∀ (i : grid0.Coords) (v13 : BitVec 32) (v2967 : BitVec 32) (k0_hw430 : k0_chk430 i v13 v2967), ∀ (k0_h5 : k0_cond5 i v13 = 1#1), ∀ a, (k0_off1045 v2967) a + S8x128.size a ≤ S65536x128.size a := fun i v13 v2967 k0_hw430 k0_h5 => k0_hw430.2.1 k0_h5
theorem k0_off1046_inb : ∀ (i : grid0.Coords) (v13 : BitVec 32) (v2967 : BitVec 32) (k0_hw430 : k0_chk430 i v13 v2967), ∀ (k0_h5 : k0_cond5 i v13 = 1#1), ∀ a, (k0_off1046 v2967) a + S1x128.size a ≤ S8192x128.size a := fun i v13 v2967 k0_hw430 k0_h5 => k0_hw430.2.2 k0_h5

def k0_off1047 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c171_i32 : BitVec 32 := 171#32
  let v2982 : BitVec 32 := Scalar.addi v74 c171_i32
  let v2983 : Index := Scalar.indexCast v2982
  ![v2983.toNat]
def k0_mult428 (v2984 : BitVec 32) : BitVec 32 :=
  let c3_i32_1251 : BitVec 32 := 3#32
  let v2985 : BitVec 32 := Scalar.shrsi v2984 c3_i32_1251
  let c8191_i32_1252 : BitVec 32 := 8191#32
  let v2986 : BitVec 32 := Scalar.andi v2985 c8191_i32_1252
  let c8_i32_1253 : BitVec 32 := 8#32
  let v2987 : BitVec 32 := Scalar.muli v2986 c8_i32_1253
  v2987

def k0_off1048 (v2984 : BitVec 32) : Fin 2 → Nat :=
  let c3_i32_1251 : BitVec 32 := 3#32
  let v2985 : BitVec 32 := Scalar.shrsi v2984 c3_i32_1251
  let c8191_i32_1252 : BitVec 32 := 8191#32
  let v2986 : BitVec 32 := Scalar.andi v2985 c8191_i32_1252
  let c8_i32_1253 : BitVec 32 := 8#32
  let v2987 : BitVec 32 := Scalar.muli v2986 c8_i32_1253
  let v2988 : BitVec 32 := v2987
  let v2989 : Index := Scalar.indexCast v2988
  let c0_1254 : Index := 0#32
  ![v2989.toNat, 0]
def k0_off1049 (v2984 : BitVec 32) : Fin 2 → Nat :=
  let c3_i32_1251 : BitVec 32 := 3#32
  let v2985 : BitVec 32 := Scalar.shrsi v2984 c3_i32_1251
  let c8191_i32_1252 : BitVec 32 := 8191#32
  let v2986 : BitVec 32 := Scalar.andi v2985 c8191_i32_1252
  let v2994 : Index := Scalar.indexCast v2986
  let c0_1256 : Index := 0#32
  ![v2994.toNat, 0]

def k0_chk431 (i : grid0.Coords) (v13 : BitVec 32) (v2984 : BitVec 32) : Prop :=
  (∀ (k0_h5 : k0_cond5 i v13 = 1#1), 8 ∣ (k0_mult428 v2984).toNat) ∧
  (∀ (k0_h5 : k0_cond5 i v13 = 1#1), ∀ a, (k0_off1048 v2984) a + S8x128.size a ≤ S65536x128.size a) ∧
  (∀ (k0_h5 : k0_cond5 i v13 = 1#1), ∀ a, (k0_off1049 v2984) a + S1x128.size a ≤ S8192x128.size a)
theorem k0_mult428_dvd : ∀ (i : grid0.Coords) (v13 : BitVec 32) (v2984 : BitVec 32) (k0_hw431 : k0_chk431 i v13 v2984), ∀ (k0_h5 : k0_cond5 i v13 = 1#1), 8 ∣ (k0_mult428 v2984).toNat := fun i v13 v2984 k0_hw431 k0_h5 => k0_hw431.1 k0_h5
theorem k0_off1048_inb : ∀ (i : grid0.Coords) (v13 : BitVec 32) (v2984 : BitVec 32) (k0_hw431 : k0_chk431 i v13 v2984), ∀ (k0_h5 : k0_cond5 i v13 = 1#1), ∀ a, (k0_off1048 v2984) a + S8x128.size a ≤ S65536x128.size a := fun i v13 v2984 k0_hw431 k0_h5 => k0_hw431.2.1 k0_h5
theorem k0_off1049_inb : ∀ (i : grid0.Coords) (v13 : BitVec 32) (v2984 : BitVec 32) (k0_hw431 : k0_chk431 i v13 v2984), ∀ (k0_h5 : k0_cond5 i v13 = 1#1), ∀ a, (k0_off1049 v2984) a + S1x128.size a ≤ S8192x128.size a := fun i v13 v2984 k0_hw431 k0_h5 => k0_hw431.2.2 k0_h5

def k0_off1050 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c172_i32 : BitVec 32 := 172#32
  let v2999 : BitVec 32 := Scalar.addi v74 c172_i32
  let v3000 : Index := Scalar.indexCast v2999
  ![v3000.toNat]
def k0_mult429 (v3001 : BitVec 32) : BitVec 32 :=
  let c3_i32_1258 : BitVec 32 := 3#32
  let v3002 : BitVec 32 := Scalar.shrsi v3001 c3_i32_1258
  let c8191_i32_1259 : BitVec 32 := 8191#32
  let v3003 : BitVec 32 := Scalar.andi v3002 c8191_i32_1259
  let c8_i32_1260 : BitVec 32 := 8#32
  let v3004 : BitVec 32 := Scalar.muli v3003 c8_i32_1260
  v3004

def k0_off1051 (v3001 : BitVec 32) : Fin 2 → Nat :=
  let c3_i32_1258 : BitVec 32 := 3#32
  let v3002 : BitVec 32 := Scalar.shrsi v3001 c3_i32_1258
  let c8191_i32_1259 : BitVec 32 := 8191#32
  let v3003 : BitVec 32 := Scalar.andi v3002 c8191_i32_1259
  let c8_i32_1260 : BitVec 32 := 8#32
  let v3004 : BitVec 32 := Scalar.muli v3003 c8_i32_1260
  let v3005 : BitVec 32 := v3004
  let v3006 : Index := Scalar.indexCast v3005
  let c0_1261 : Index := 0#32
  ![v3006.toNat, 0]
def k0_off1052 (v3001 : BitVec 32) : Fin 2 → Nat :=
  let c3_i32_1258 : BitVec 32 := 3#32
  let v3002 : BitVec 32 := Scalar.shrsi v3001 c3_i32_1258
  let c8191_i32_1259 : BitVec 32 := 8191#32
  let v3003 : BitVec 32 := Scalar.andi v3002 c8191_i32_1259
  let v3011 : Index := Scalar.indexCast v3003
  let c0_1263 : Index := 0#32
  ![v3011.toNat, 0]

def k0_chk432 (i : grid0.Coords) (v13 : BitVec 32) (v3001 : BitVec 32) : Prop :=
  (∀ (k0_h5 : k0_cond5 i v13 = 1#1), 8 ∣ (k0_mult429 v3001).toNat) ∧
  (∀ (k0_h5 : k0_cond5 i v13 = 1#1), ∀ a, (k0_off1051 v3001) a + S8x128.size a ≤ S65536x128.size a) ∧
  (∀ (k0_h5 : k0_cond5 i v13 = 1#1), ∀ a, (k0_off1052 v3001) a + S1x128.size a ≤ S8192x128.size a)
theorem k0_mult429_dvd : ∀ (i : grid0.Coords) (v13 : BitVec 32) (v3001 : BitVec 32) (k0_hw432 : k0_chk432 i v13 v3001), ∀ (k0_h5 : k0_cond5 i v13 = 1#1), 8 ∣ (k0_mult429 v3001).toNat := fun i v13 v3001 k0_hw432 k0_h5 => k0_hw432.1 k0_h5
theorem k0_off1051_inb : ∀ (i : grid0.Coords) (v13 : BitVec 32) (v3001 : BitVec 32) (k0_hw432 : k0_chk432 i v13 v3001), ∀ (k0_h5 : k0_cond5 i v13 = 1#1), ∀ a, (k0_off1051 v3001) a + S8x128.size a ≤ S65536x128.size a := fun i v13 v3001 k0_hw432 k0_h5 => k0_hw432.2.1 k0_h5
theorem k0_off1052_inb : ∀ (i : grid0.Coords) (v13 : BitVec 32) (v3001 : BitVec 32) (k0_hw432 : k0_chk432 i v13 v3001), ∀ (k0_h5 : k0_cond5 i v13 = 1#1), ∀ a, (k0_off1052 v3001) a + S1x128.size a ≤ S8192x128.size a := fun i v13 v3001 k0_hw432 k0_h5 => k0_hw432.2.2 k0_h5

def k0_off1053 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c173_i32 : BitVec 32 := 173#32
  let v3016 : BitVec 32 := Scalar.addi v74 c173_i32
  let v3017 : Index := Scalar.indexCast v3016
  ![v3017.toNat]
def k0_mult430 (v3018 : BitVec 32) : BitVec 32 :=
  let c3_i32_1265 : BitVec 32 := 3#32
  let v3019 : BitVec 32 := Scalar.shrsi v3018 c3_i32_1265
  let c8191_i32_1266 : BitVec 32 := 8191#32
  let v3020 : BitVec 32 := Scalar.andi v3019 c8191_i32_1266
  let c8_i32_1267 : BitVec 32 := 8#32
  let v3021 : BitVec 32 := Scalar.muli v3020 c8_i32_1267
  v3021

def k0_off1054 (v3018 : BitVec 32) : Fin 2 → Nat :=
  let c3_i32_1265 : BitVec 32 := 3#32
  let v3019 : BitVec 32 := Scalar.shrsi v3018 c3_i32_1265
  let c8191_i32_1266 : BitVec 32 := 8191#32
  let v3020 : BitVec 32 := Scalar.andi v3019 c8191_i32_1266
  let c8_i32_1267 : BitVec 32 := 8#32
  let v3021 : BitVec 32 := Scalar.muli v3020 c8_i32_1267
  let v3022 : BitVec 32 := v3021
  let v3023 : Index := Scalar.indexCast v3022
  let c0_1268 : Index := 0#32
  ![v3023.toNat, 0]
def k0_off1055 (v3018 : BitVec 32) : Fin 2 → Nat :=
  let c3_i32_1265 : BitVec 32 := 3#32
  let v3019 : BitVec 32 := Scalar.shrsi v3018 c3_i32_1265
  let c8191_i32_1266 : BitVec 32 := 8191#32
  let v3020 : BitVec 32 := Scalar.andi v3019 c8191_i32_1266
  let v3028 : Index := Scalar.indexCast v3020
  let c0_1270 : Index := 0#32
  ![v3028.toNat, 0]

def k0_chk433 (i : grid0.Coords) (v13 : BitVec 32) (v3018 : BitVec 32) : Prop :=
  (∀ (k0_h5 : k0_cond5 i v13 = 1#1), 8 ∣ (k0_mult430 v3018).toNat) ∧
  (∀ (k0_h5 : k0_cond5 i v13 = 1#1), ∀ a, (k0_off1054 v3018) a + S8x128.size a ≤ S65536x128.size a) ∧
  (∀ (k0_h5 : k0_cond5 i v13 = 1#1), ∀ a, (k0_off1055 v3018) a + S1x128.size a ≤ S8192x128.size a)
theorem k0_mult430_dvd : ∀ (i : grid0.Coords) (v13 : BitVec 32) (v3018 : BitVec 32) (k0_hw433 : k0_chk433 i v13 v3018), ∀ (k0_h5 : k0_cond5 i v13 = 1#1), 8 ∣ (k0_mult430 v3018).toNat := fun i v13 v3018 k0_hw433 k0_h5 => k0_hw433.1 k0_h5
theorem k0_off1054_inb : ∀ (i : grid0.Coords) (v13 : BitVec 32) (v3018 : BitVec 32) (k0_hw433 : k0_chk433 i v13 v3018), ∀ (k0_h5 : k0_cond5 i v13 = 1#1), ∀ a, (k0_off1054 v3018) a + S8x128.size a ≤ S65536x128.size a := fun i v13 v3018 k0_hw433 k0_h5 => k0_hw433.2.1 k0_h5
theorem k0_off1055_inb : ∀ (i : grid0.Coords) (v13 : BitVec 32) (v3018 : BitVec 32) (k0_hw433 : k0_chk433 i v13 v3018), ∀ (k0_h5 : k0_cond5 i v13 = 1#1), ∀ a, (k0_off1055 v3018) a + S1x128.size a ≤ S8192x128.size a := fun i v13 v3018 k0_hw433 k0_h5 => k0_hw433.2.2 k0_h5

def k0_off1056 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c174_i32 : BitVec 32 := 174#32
  let v3033 : BitVec 32 := Scalar.addi v74 c174_i32
  let v3034 : Index := Scalar.indexCast v3033
  ![v3034.toNat]
def k0_mult431 (v3035 : BitVec 32) : BitVec 32 :=
  let c3_i32_1272 : BitVec 32 := 3#32
  let v3036 : BitVec 32 := Scalar.shrsi v3035 c3_i32_1272
  let c8191_i32_1273 : BitVec 32 := 8191#32
  let v3037 : BitVec 32 := Scalar.andi v3036 c8191_i32_1273
  let c8_i32_1274 : BitVec 32 := 8#32
  let v3038 : BitVec 32 := Scalar.muli v3037 c8_i32_1274
  v3038

def k0_off1057 (v3035 : BitVec 32) : Fin 2 → Nat :=
  let c3_i32_1272 : BitVec 32 := 3#32
  let v3036 : BitVec 32 := Scalar.shrsi v3035 c3_i32_1272
  let c8191_i32_1273 : BitVec 32 := 8191#32
  let v3037 : BitVec 32 := Scalar.andi v3036 c8191_i32_1273
  let c8_i32_1274 : BitVec 32 := 8#32
  let v3038 : BitVec 32 := Scalar.muli v3037 c8_i32_1274
  let v3039 : BitVec 32 := v3038
  let v3040 : Index := Scalar.indexCast v3039
  let c0_1275 : Index := 0#32
  ![v3040.toNat, 0]
def k0_off1058 (v3035 : BitVec 32) : Fin 2 → Nat :=
  let c3_i32_1272 : BitVec 32 := 3#32
  let v3036 : BitVec 32 := Scalar.shrsi v3035 c3_i32_1272
  let c8191_i32_1273 : BitVec 32 := 8191#32
  let v3037 : BitVec 32 := Scalar.andi v3036 c8191_i32_1273
  let v3045 : Index := Scalar.indexCast v3037
  let c0_1277 : Index := 0#32
  ![v3045.toNat, 0]

def k0_chk434 (i : grid0.Coords) (v13 : BitVec 32) (v3035 : BitVec 32) : Prop :=
  (∀ (k0_h5 : k0_cond5 i v13 = 1#1), 8 ∣ (k0_mult431 v3035).toNat) ∧
  (∀ (k0_h5 : k0_cond5 i v13 = 1#1), ∀ a, (k0_off1057 v3035) a + S8x128.size a ≤ S65536x128.size a) ∧
  (∀ (k0_h5 : k0_cond5 i v13 = 1#1), ∀ a, (k0_off1058 v3035) a + S1x128.size a ≤ S8192x128.size a)
theorem k0_mult431_dvd : ∀ (i : grid0.Coords) (v13 : BitVec 32) (v3035 : BitVec 32) (k0_hw434 : k0_chk434 i v13 v3035), ∀ (k0_h5 : k0_cond5 i v13 = 1#1), 8 ∣ (k0_mult431 v3035).toNat := fun i v13 v3035 k0_hw434 k0_h5 => k0_hw434.1 k0_h5
theorem k0_off1057_inb : ∀ (i : grid0.Coords) (v13 : BitVec 32) (v3035 : BitVec 32) (k0_hw434 : k0_chk434 i v13 v3035), ∀ (k0_h5 : k0_cond5 i v13 = 1#1), ∀ a, (k0_off1057 v3035) a + S8x128.size a ≤ S65536x128.size a := fun i v13 v3035 k0_hw434 k0_h5 => k0_hw434.2.1 k0_h5
theorem k0_off1058_inb : ∀ (i : grid0.Coords) (v13 : BitVec 32) (v3035 : BitVec 32) (k0_hw434 : k0_chk434 i v13 v3035), ∀ (k0_h5 : k0_cond5 i v13 = 1#1), ∀ a, (k0_off1058 v3035) a + S1x128.size a ≤ S8192x128.size a := fun i v13 v3035 k0_hw434 k0_h5 => k0_hw434.2.2 k0_h5

def k0_off1059 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c175_i32 : BitVec 32 := 175#32
  let v3050 : BitVec 32 := Scalar.addi v74 c175_i32
  let v3051 : Index := Scalar.indexCast v3050
  ![v3051.toNat]
def k0_mult432 (v3052 : BitVec 32) : BitVec 32 :=
  let c3_i32_1279 : BitVec 32 := 3#32
  let v3053 : BitVec 32 := Scalar.shrsi v3052 c3_i32_1279
  let c8191_i32_1280 : BitVec 32 := 8191#32
  let v3054 : BitVec 32 := Scalar.andi v3053 c8191_i32_1280
  let c8_i32_1281 : BitVec 32 := 8#32
  let v3055 : BitVec 32 := Scalar.muli v3054 c8_i32_1281
  v3055

def k0_off1060 (v3052 : BitVec 32) : Fin 2 → Nat :=
  let c3_i32_1279 : BitVec 32 := 3#32
  let v3053 : BitVec 32 := Scalar.shrsi v3052 c3_i32_1279
  let c8191_i32_1280 : BitVec 32 := 8191#32
  let v3054 : BitVec 32 := Scalar.andi v3053 c8191_i32_1280
  let c8_i32_1281 : BitVec 32 := 8#32
  let v3055 : BitVec 32 := Scalar.muli v3054 c8_i32_1281
  let v3056 : BitVec 32 := v3055
  let v3057 : Index := Scalar.indexCast v3056
  let c0_1282 : Index := 0#32
  ![v3057.toNat, 0]
def k0_off1061 (v3052 : BitVec 32) : Fin 2 → Nat :=
  let c3_i32_1279 : BitVec 32 := 3#32
  let v3053 : BitVec 32 := Scalar.shrsi v3052 c3_i32_1279
  let c8191_i32_1280 : BitVec 32 := 8191#32
  let v3054 : BitVec 32 := Scalar.andi v3053 c8191_i32_1280
  let v3062 : Index := Scalar.indexCast v3054
  let c0_1284 : Index := 0#32
  ![v3062.toNat, 0]

def k0_chk435 (i : grid0.Coords) (v13 : BitVec 32) (v3052 : BitVec 32) : Prop :=
  (∀ (k0_h5 : k0_cond5 i v13 = 1#1), 8 ∣ (k0_mult432 v3052).toNat) ∧
  (∀ (k0_h5 : k0_cond5 i v13 = 1#1), ∀ a, (k0_off1060 v3052) a + S8x128.size a ≤ S65536x128.size a) ∧
  (∀ (k0_h5 : k0_cond5 i v13 = 1#1), ∀ a, (k0_off1061 v3052) a + S1x128.size a ≤ S8192x128.size a)
theorem k0_mult432_dvd : ∀ (i : grid0.Coords) (v13 : BitVec 32) (v3052 : BitVec 32) (k0_hw435 : k0_chk435 i v13 v3052), ∀ (k0_h5 : k0_cond5 i v13 = 1#1), 8 ∣ (k0_mult432 v3052).toNat := fun i v13 v3052 k0_hw435 k0_h5 => k0_hw435.1 k0_h5
theorem k0_off1060_inb : ∀ (i : grid0.Coords) (v13 : BitVec 32) (v3052 : BitVec 32) (k0_hw435 : k0_chk435 i v13 v3052), ∀ (k0_h5 : k0_cond5 i v13 = 1#1), ∀ a, (k0_off1060 v3052) a + S8x128.size a ≤ S65536x128.size a := fun i v13 v3052 k0_hw435 k0_h5 => k0_hw435.2.1 k0_h5
theorem k0_off1061_inb : ∀ (i : grid0.Coords) (v13 : BitVec 32) (v3052 : BitVec 32) (k0_hw435 : k0_chk435 i v13 v3052), ∀ (k0_h5 : k0_cond5 i v13 = 1#1), ∀ a, (k0_off1061 v3052) a + S1x128.size a ≤ S8192x128.size a := fun i v13 v3052 k0_hw435 k0_h5 => k0_hw435.2.2 k0_h5

def k0_off1062 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c176_i32 : BitVec 32 := 176#32
  let v3067 : BitVec 32 := Scalar.addi v74 c176_i32
  let v3068 : Index := Scalar.indexCast v3067
  ![v3068.toNat]
def k0_mult433 (v3069 : BitVec 32) : BitVec 32 :=
  let c3_i32_1286 : BitVec 32 := 3#32
  let v3070 : BitVec 32 := Scalar.shrsi v3069 c3_i32_1286
  let c8191_i32_1287 : BitVec 32 := 8191#32
  let v3071 : BitVec 32 := Scalar.andi v3070 c8191_i32_1287
  let c8_i32_1288 : BitVec 32 := 8#32
  let v3072 : BitVec 32 := Scalar.muli v3071 c8_i32_1288
  v3072

def k0_off1063 (v3069 : BitVec 32) : Fin 2 → Nat :=
  let c3_i32_1286 : BitVec 32 := 3#32
  let v3070 : BitVec 32 := Scalar.shrsi v3069 c3_i32_1286
  let c8191_i32_1287 : BitVec 32 := 8191#32
  let v3071 : BitVec 32 := Scalar.andi v3070 c8191_i32_1287
  let c8_i32_1288 : BitVec 32 := 8#32
  let v3072 : BitVec 32 := Scalar.muli v3071 c8_i32_1288
  let v3073 : BitVec 32 := v3072
  let v3074 : Index := Scalar.indexCast v3073
  let c0_1289 : Index := 0#32
  ![v3074.toNat, 0]
def k0_off1064 (v3069 : BitVec 32) : Fin 2 → Nat :=
  let c3_i32_1286 : BitVec 32 := 3#32
  let v3070 : BitVec 32 := Scalar.shrsi v3069 c3_i32_1286
  let c8191_i32_1287 : BitVec 32 := 8191#32
  let v3071 : BitVec 32 := Scalar.andi v3070 c8191_i32_1287
  let v3079 : Index := Scalar.indexCast v3071
  let c0_1291 : Index := 0#32
  ![v3079.toNat, 0]

def k0_chk436 (i : grid0.Coords) (v13 : BitVec 32) (v3069 : BitVec 32) : Prop :=
  (∀ (k0_h5 : k0_cond5 i v13 = 1#1), 8 ∣ (k0_mult433 v3069).toNat) ∧
  (∀ (k0_h5 : k0_cond5 i v13 = 1#1), ∀ a, (k0_off1063 v3069) a + S8x128.size a ≤ S65536x128.size a) ∧
  (∀ (k0_h5 : k0_cond5 i v13 = 1#1), ∀ a, (k0_off1064 v3069) a + S1x128.size a ≤ S8192x128.size a)
theorem k0_mult433_dvd : ∀ (i : grid0.Coords) (v13 : BitVec 32) (v3069 : BitVec 32) (k0_hw436 : k0_chk436 i v13 v3069), ∀ (k0_h5 : k0_cond5 i v13 = 1#1), 8 ∣ (k0_mult433 v3069).toNat := fun i v13 v3069 k0_hw436 k0_h5 => k0_hw436.1 k0_h5
theorem k0_off1063_inb : ∀ (i : grid0.Coords) (v13 : BitVec 32) (v3069 : BitVec 32) (k0_hw436 : k0_chk436 i v13 v3069), ∀ (k0_h5 : k0_cond5 i v13 = 1#1), ∀ a, (k0_off1063 v3069) a + S8x128.size a ≤ S65536x128.size a := fun i v13 v3069 k0_hw436 k0_h5 => k0_hw436.2.1 k0_h5
theorem k0_off1064_inb : ∀ (i : grid0.Coords) (v13 : BitVec 32) (v3069 : BitVec 32) (k0_hw436 : k0_chk436 i v13 v3069), ∀ (k0_h5 : k0_cond5 i v13 = 1#1), ∀ a, (k0_off1064 v3069) a + S1x128.size a ≤ S8192x128.size a := fun i v13 v3069 k0_hw436 k0_h5 => k0_hw436.2.2 k0_h5

def k0_off1065 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c177_i32 : BitVec 32 := 177#32
  let v3084 : BitVec 32 := Scalar.addi v74 c177_i32
  let v3085 : Index := Scalar.indexCast v3084
  ![v3085.toNat]
def k0_mult434 (v3086 : BitVec 32) : BitVec 32 :=
  let c3_i32_1294 : BitVec 32 := 3#32
  let v3087 : BitVec 32 := Scalar.shrsi v3086 c3_i32_1294
  let c8191_i32_1295 : BitVec 32 := 8191#32
  let v3088 : BitVec 32 := Scalar.andi v3087 c8191_i32_1295
  let c8_i32_1296 : BitVec 32 := 8#32
  let v3089 : BitVec 32 := Scalar.muli v3088 c8_i32_1296
  v3089

def k0_off1066 (v3086 : BitVec 32) : Fin 2 → Nat :=
  let c3_i32_1294 : BitVec 32 := 3#32
  let v3087 : BitVec 32 := Scalar.shrsi v3086 c3_i32_1294
  let c8191_i32_1295 : BitVec 32 := 8191#32
  let v3088 : BitVec 32 := Scalar.andi v3087 c8191_i32_1295
  let c8_i32_1296 : BitVec 32 := 8#32
  let v3089 : BitVec 32 := Scalar.muli v3088 c8_i32_1296
  let v3090 : BitVec 32 := v3089
  let v3091 : Index := Scalar.indexCast v3090
  let c0_1297 : Index := 0#32
  ![v3091.toNat, 0]
def k0_off1067 (v3086 : BitVec 32) : Fin 2 → Nat :=
  let c3_i32_1294 : BitVec 32 := 3#32
  let v3087 : BitVec 32 := Scalar.shrsi v3086 c3_i32_1294
  let c8191_i32_1295 : BitVec 32 := 8191#32
  let v3088 : BitVec 32 := Scalar.andi v3087 c8191_i32_1295
  let v3096 : Index := Scalar.indexCast v3088
  let c0_1299 : Index := 0#32
  ![v3096.toNat, 0]

def k0_chk437 (i : grid0.Coords) (v13 : BitVec 32) (v3086 : BitVec 32) : Prop :=
  (∀ (k0_h5 : k0_cond5 i v13 = 1#1), 8 ∣ (k0_mult434 v3086).toNat) ∧
  (∀ (k0_h5 : k0_cond5 i v13 = 1#1), ∀ a, (k0_off1066 v3086) a + S8x128.size a ≤ S65536x128.size a) ∧
  (∀ (k0_h5 : k0_cond5 i v13 = 1#1), ∀ a, (k0_off1067 v3086) a + S1x128.size a ≤ S8192x128.size a)
theorem k0_mult434_dvd : ∀ (i : grid0.Coords) (v13 : BitVec 32) (v3086 : BitVec 32) (k0_hw437 : k0_chk437 i v13 v3086), ∀ (k0_h5 : k0_cond5 i v13 = 1#1), 8 ∣ (k0_mult434 v3086).toNat := fun i v13 v3086 k0_hw437 k0_h5 => k0_hw437.1 k0_h5
theorem k0_off1066_inb : ∀ (i : grid0.Coords) (v13 : BitVec 32) (v3086 : BitVec 32) (k0_hw437 : k0_chk437 i v13 v3086), ∀ (k0_h5 : k0_cond5 i v13 = 1#1), ∀ a, (k0_off1066 v3086) a + S8x128.size a ≤ S65536x128.size a := fun i v13 v3086 k0_hw437 k0_h5 => k0_hw437.2.1 k0_h5
theorem k0_off1067_inb : ∀ (i : grid0.Coords) (v13 : BitVec 32) (v3086 : BitVec 32) (k0_hw437 : k0_chk437 i v13 v3086), ∀ (k0_h5 : k0_cond5 i v13 = 1#1), ∀ a, (k0_off1067 v3086) a + S1x128.size a ≤ S8192x128.size a := fun i v13 v3086 k0_hw437 k0_h5 => k0_hw437.2.2 k0_h5

def k0_off1068 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c178_i32 : BitVec 32 := 178#32
  let v3101 : BitVec 32 := Scalar.addi v74 c178_i32
  let v3102 : Index := Scalar.indexCast v3101
  ![v3102.toNat]
def k0_mult435 (v3103 : BitVec 32) : BitVec 32 :=
  let c3_i32_1301 : BitVec 32 := 3#32
  let v3104 : BitVec 32 := Scalar.shrsi v3103 c3_i32_1301
  let c8191_i32_1302 : BitVec 32 := 8191#32
  let v3105 : BitVec 32 := Scalar.andi v3104 c8191_i32_1302
  let c8_i32_1303 : BitVec 32 := 8#32
  let v3106 : BitVec 32 := Scalar.muli v3105 c8_i32_1303
  v3106

def k0_off1069 (v3103 : BitVec 32) : Fin 2 → Nat :=
  let c3_i32_1301 : BitVec 32 := 3#32
  let v3104 : BitVec 32 := Scalar.shrsi v3103 c3_i32_1301
  let c8191_i32_1302 : BitVec 32 := 8191#32
  let v3105 : BitVec 32 := Scalar.andi v3104 c8191_i32_1302
  let c8_i32_1303 : BitVec 32 := 8#32
  let v3106 : BitVec 32 := Scalar.muli v3105 c8_i32_1303
  let v3107 : BitVec 32 := v3106
  let v3108 : Index := Scalar.indexCast v3107
  let c0_1304 : Index := 0#32
  ![v3108.toNat, 0]
def k0_off1070 (v3103 : BitVec 32) : Fin 2 → Nat :=
  let c3_i32_1301 : BitVec 32 := 3#32
  let v3104 : BitVec 32 := Scalar.shrsi v3103 c3_i32_1301
  let c8191_i32_1302 : BitVec 32 := 8191#32
  let v3105 : BitVec 32 := Scalar.andi v3104 c8191_i32_1302
  let v3113 : Index := Scalar.indexCast v3105
  let c0_1306 : Index := 0#32
  ![v3113.toNat, 0]

def k0_chk438 (i : grid0.Coords) (v13 : BitVec 32) (v3103 : BitVec 32) : Prop :=
  (∀ (k0_h5 : k0_cond5 i v13 = 1#1), 8 ∣ (k0_mult435 v3103).toNat) ∧
  (∀ (k0_h5 : k0_cond5 i v13 = 1#1), ∀ a, (k0_off1069 v3103) a + S8x128.size a ≤ S65536x128.size a) ∧
  (∀ (k0_h5 : k0_cond5 i v13 = 1#1), ∀ a, (k0_off1070 v3103) a + S1x128.size a ≤ S8192x128.size a)
theorem k0_mult435_dvd : ∀ (i : grid0.Coords) (v13 : BitVec 32) (v3103 : BitVec 32) (k0_hw438 : k0_chk438 i v13 v3103), ∀ (k0_h5 : k0_cond5 i v13 = 1#1), 8 ∣ (k0_mult435 v3103).toNat := fun i v13 v3103 k0_hw438 k0_h5 => k0_hw438.1 k0_h5
theorem k0_off1069_inb : ∀ (i : grid0.Coords) (v13 : BitVec 32) (v3103 : BitVec 32) (k0_hw438 : k0_chk438 i v13 v3103), ∀ (k0_h5 : k0_cond5 i v13 = 1#1), ∀ a, (k0_off1069 v3103) a + S8x128.size a ≤ S65536x128.size a := fun i v13 v3103 k0_hw438 k0_h5 => k0_hw438.2.1 k0_h5
theorem k0_off1070_inb : ∀ (i : grid0.Coords) (v13 : BitVec 32) (v3103 : BitVec 32) (k0_hw438 : k0_chk438 i v13 v3103), ∀ (k0_h5 : k0_cond5 i v13 = 1#1), ∀ a, (k0_off1070 v3103) a + S1x128.size a ≤ S8192x128.size a := fun i v13 v3103 k0_hw438 k0_h5 => k0_hw438.2.2 k0_h5

def k0_off1071 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c179_i32 : BitVec 32 := 179#32
  let v3118 : BitVec 32 := Scalar.addi v74 c179_i32
  let v3119 : Index := Scalar.indexCast v3118
  ![v3119.toNat]
def k0_mult436 (v3120 : BitVec 32) : BitVec 32 :=
  let c3_i32_1308 : BitVec 32 := 3#32
  let v3121 : BitVec 32 := Scalar.shrsi v3120 c3_i32_1308
  let c8191_i32_1309 : BitVec 32 := 8191#32
  let v3122 : BitVec 32 := Scalar.andi v3121 c8191_i32_1309
  let c8_i32_1310 : BitVec 32 := 8#32
  let v3123 : BitVec 32 := Scalar.muli v3122 c8_i32_1310
  v3123

def k0_off1072 (v3120 : BitVec 32) : Fin 2 → Nat :=
  let c3_i32_1308 : BitVec 32 := 3#32
  let v3121 : BitVec 32 := Scalar.shrsi v3120 c3_i32_1308
  let c8191_i32_1309 : BitVec 32 := 8191#32
  let v3122 : BitVec 32 := Scalar.andi v3121 c8191_i32_1309
  let c8_i32_1310 : BitVec 32 := 8#32
  let v3123 : BitVec 32 := Scalar.muli v3122 c8_i32_1310
  let v3124 : BitVec 32 := v3123
  let v3125 : Index := Scalar.indexCast v3124
  let c0_1311 : Index := 0#32
  ![v3125.toNat, 0]
def k0_off1073 (v3120 : BitVec 32) : Fin 2 → Nat :=
  let c3_i32_1308 : BitVec 32 := 3#32
  let v3121 : BitVec 32 := Scalar.shrsi v3120 c3_i32_1308
  let c8191_i32_1309 : BitVec 32 := 8191#32
  let v3122 : BitVec 32 := Scalar.andi v3121 c8191_i32_1309
  let v3130 : Index := Scalar.indexCast v3122
  let c0_1313 : Index := 0#32
  ![v3130.toNat, 0]

def k0_chk439 (i : grid0.Coords) (v13 : BitVec 32) (v3120 : BitVec 32) : Prop :=
  (∀ (k0_h5 : k0_cond5 i v13 = 1#1), 8 ∣ (k0_mult436 v3120).toNat) ∧
  (∀ (k0_h5 : k0_cond5 i v13 = 1#1), ∀ a, (k0_off1072 v3120) a + S8x128.size a ≤ S65536x128.size a) ∧
  (∀ (k0_h5 : k0_cond5 i v13 = 1#1), ∀ a, (k0_off1073 v3120) a + S1x128.size a ≤ S8192x128.size a)
theorem k0_mult436_dvd : ∀ (i : grid0.Coords) (v13 : BitVec 32) (v3120 : BitVec 32) (k0_hw439 : k0_chk439 i v13 v3120), ∀ (k0_h5 : k0_cond5 i v13 = 1#1), 8 ∣ (k0_mult436 v3120).toNat := fun i v13 v3120 k0_hw439 k0_h5 => k0_hw439.1 k0_h5
theorem k0_off1072_inb : ∀ (i : grid0.Coords) (v13 : BitVec 32) (v3120 : BitVec 32) (k0_hw439 : k0_chk439 i v13 v3120), ∀ (k0_h5 : k0_cond5 i v13 = 1#1), ∀ a, (k0_off1072 v3120) a + S8x128.size a ≤ S65536x128.size a := fun i v13 v3120 k0_hw439 k0_h5 => k0_hw439.2.1 k0_h5
theorem k0_off1073_inb : ∀ (i : grid0.Coords) (v13 : BitVec 32) (v3120 : BitVec 32) (k0_hw439 : k0_chk439 i v13 v3120), ∀ (k0_h5 : k0_cond5 i v13 = 1#1), ∀ a, (k0_off1073 v3120) a + S1x128.size a ≤ S8192x128.size a := fun i v13 v3120 k0_hw439 k0_h5 => k0_hw439.2.2 k0_h5

def k0_off1074 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c180_i32 : BitVec 32 := 180#32
  let v3135 : BitVec 32 := Scalar.addi v74 c180_i32
  let v3136 : Index := Scalar.indexCast v3135
  ![v3136.toNat]
def k0_mult437 (v3137 : BitVec 32) : BitVec 32 :=
  let c3_i32_1315 : BitVec 32 := 3#32
  let v3138 : BitVec 32 := Scalar.shrsi v3137 c3_i32_1315
  let c8191_i32_1316 : BitVec 32 := 8191#32
  let v3139 : BitVec 32 := Scalar.andi v3138 c8191_i32_1316
  let c8_i32_1317 : BitVec 32 := 8#32
  let v3140 : BitVec 32 := Scalar.muli v3139 c8_i32_1317
  v3140

def k0_off1075 (v3137 : BitVec 32) : Fin 2 → Nat :=
  let c3_i32_1315 : BitVec 32 := 3#32
  let v3138 : BitVec 32 := Scalar.shrsi v3137 c3_i32_1315
  let c8191_i32_1316 : BitVec 32 := 8191#32
  let v3139 : BitVec 32 := Scalar.andi v3138 c8191_i32_1316
  let c8_i32_1317 : BitVec 32 := 8#32
  let v3140 : BitVec 32 := Scalar.muli v3139 c8_i32_1317
  let v3141 : BitVec 32 := v3140
  let v3142 : Index := Scalar.indexCast v3141
  let c0_1318 : Index := 0#32
  ![v3142.toNat, 0]
def k0_off1076 (v3137 : BitVec 32) : Fin 2 → Nat :=
  let c3_i32_1315 : BitVec 32 := 3#32
  let v3138 : BitVec 32 := Scalar.shrsi v3137 c3_i32_1315
  let c8191_i32_1316 : BitVec 32 := 8191#32
  let v3139 : BitVec 32 := Scalar.andi v3138 c8191_i32_1316
  let v3147 : Index := Scalar.indexCast v3139
  let c0_1320 : Index := 0#32
  ![v3147.toNat, 0]

def k0_chk440 (i : grid0.Coords) (v13 : BitVec 32) (v3137 : BitVec 32) : Prop :=
  (∀ (k0_h5 : k0_cond5 i v13 = 1#1), 8 ∣ (k0_mult437 v3137).toNat) ∧
  (∀ (k0_h5 : k0_cond5 i v13 = 1#1), ∀ a, (k0_off1075 v3137) a + S8x128.size a ≤ S65536x128.size a) ∧
  (∀ (k0_h5 : k0_cond5 i v13 = 1#1), ∀ a, (k0_off1076 v3137) a + S1x128.size a ≤ S8192x128.size a)
theorem k0_mult437_dvd : ∀ (i : grid0.Coords) (v13 : BitVec 32) (v3137 : BitVec 32) (k0_hw440 : k0_chk440 i v13 v3137), ∀ (k0_h5 : k0_cond5 i v13 = 1#1), 8 ∣ (k0_mult437 v3137).toNat := fun i v13 v3137 k0_hw440 k0_h5 => k0_hw440.1 k0_h5
theorem k0_off1075_inb : ∀ (i : grid0.Coords) (v13 : BitVec 32) (v3137 : BitVec 32) (k0_hw440 : k0_chk440 i v13 v3137), ∀ (k0_h5 : k0_cond5 i v13 = 1#1), ∀ a, (k0_off1075 v3137) a + S8x128.size a ≤ S65536x128.size a := fun i v13 v3137 k0_hw440 k0_h5 => k0_hw440.2.1 k0_h5
theorem k0_off1076_inb : ∀ (i : grid0.Coords) (v13 : BitVec 32) (v3137 : BitVec 32) (k0_hw440 : k0_chk440 i v13 v3137), ∀ (k0_h5 : k0_cond5 i v13 = 1#1), ∀ a, (k0_off1076 v3137) a + S1x128.size a ≤ S8192x128.size a := fun i v13 v3137 k0_hw440 k0_h5 => k0_hw440.2.2 k0_h5

def k0_off1077 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c181_i32 : BitVec 32 := 181#32
  let v3152 : BitVec 32 := Scalar.addi v74 c181_i32
  let v3153 : Index := Scalar.indexCast v3152
  ![v3153.toNat]
def k0_mult438 (v3154 : BitVec 32) : BitVec 32 :=
  let c3_i32_1322 : BitVec 32 := 3#32
  let v3155 : BitVec 32 := Scalar.shrsi v3154 c3_i32_1322
  let c8191_i32_1323 : BitVec 32 := 8191#32
  let v3156 : BitVec 32 := Scalar.andi v3155 c8191_i32_1323
  let c8_i32_1324 : BitVec 32 := 8#32
  let v3157 : BitVec 32 := Scalar.muli v3156 c8_i32_1324
  v3157

def k0_off1078 (v3154 : BitVec 32) : Fin 2 → Nat :=
  let c3_i32_1322 : BitVec 32 := 3#32
  let v3155 : BitVec 32 := Scalar.shrsi v3154 c3_i32_1322
  let c8191_i32_1323 : BitVec 32 := 8191#32
  let v3156 : BitVec 32 := Scalar.andi v3155 c8191_i32_1323
  let c8_i32_1324 : BitVec 32 := 8#32
  let v3157 : BitVec 32 := Scalar.muli v3156 c8_i32_1324
  let v3158 : BitVec 32 := v3157
  let v3159 : Index := Scalar.indexCast v3158
  let c0_1325 : Index := 0#32
  ![v3159.toNat, 0]
def k0_off1079 (v3154 : BitVec 32) : Fin 2 → Nat :=
  let c3_i32_1322 : BitVec 32 := 3#32
  let v3155 : BitVec 32 := Scalar.shrsi v3154 c3_i32_1322
  let c8191_i32_1323 : BitVec 32 := 8191#32
  let v3156 : BitVec 32 := Scalar.andi v3155 c8191_i32_1323
  let v3164 : Index := Scalar.indexCast v3156
  let c0_1327 : Index := 0#32
  ![v3164.toNat, 0]

def k0_chk441 (i : grid0.Coords) (v13 : BitVec 32) (v3154 : BitVec 32) : Prop :=
  (∀ (k0_h5 : k0_cond5 i v13 = 1#1), 8 ∣ (k0_mult438 v3154).toNat) ∧
  (∀ (k0_h5 : k0_cond5 i v13 = 1#1), ∀ a, (k0_off1078 v3154) a + S8x128.size a ≤ S65536x128.size a) ∧
  (∀ (k0_h5 : k0_cond5 i v13 = 1#1), ∀ a, (k0_off1079 v3154) a + S1x128.size a ≤ S8192x128.size a)
theorem k0_mult438_dvd : ∀ (i : grid0.Coords) (v13 : BitVec 32) (v3154 : BitVec 32) (k0_hw441 : k0_chk441 i v13 v3154), ∀ (k0_h5 : k0_cond5 i v13 = 1#1), 8 ∣ (k0_mult438 v3154).toNat := fun i v13 v3154 k0_hw441 k0_h5 => k0_hw441.1 k0_h5
theorem k0_off1078_inb : ∀ (i : grid0.Coords) (v13 : BitVec 32) (v3154 : BitVec 32) (k0_hw441 : k0_chk441 i v13 v3154), ∀ (k0_h5 : k0_cond5 i v13 = 1#1), ∀ a, (k0_off1078 v3154) a + S8x128.size a ≤ S65536x128.size a := fun i v13 v3154 k0_hw441 k0_h5 => k0_hw441.2.1 k0_h5
theorem k0_off1079_inb : ∀ (i : grid0.Coords) (v13 : BitVec 32) (v3154 : BitVec 32) (k0_hw441 : k0_chk441 i v13 v3154), ∀ (k0_h5 : k0_cond5 i v13 = 1#1), ∀ a, (k0_off1079 v3154) a + S1x128.size a ≤ S8192x128.size a := fun i v13 v3154 k0_hw441 k0_h5 => k0_hw441.2.2 k0_h5

def k0_off1080 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c182_i32 : BitVec 32 := 182#32
  let v3169 : BitVec 32 := Scalar.addi v74 c182_i32
  let v3170 : Index := Scalar.indexCast v3169
  ![v3170.toNat]
def k0_mult439 (v3171 : BitVec 32) : BitVec 32 :=
  let c3_i32_1329 : BitVec 32 := 3#32
  let v3172 : BitVec 32 := Scalar.shrsi v3171 c3_i32_1329
  let c8191_i32_1330 : BitVec 32 := 8191#32
  let v3173 : BitVec 32 := Scalar.andi v3172 c8191_i32_1330
  let c8_i32_1331 : BitVec 32 := 8#32
  let v3174 : BitVec 32 := Scalar.muli v3173 c8_i32_1331
  v3174

def k0_off1081 (v3171 : BitVec 32) : Fin 2 → Nat :=
  let c3_i32_1329 : BitVec 32 := 3#32
  let v3172 : BitVec 32 := Scalar.shrsi v3171 c3_i32_1329
  let c8191_i32_1330 : BitVec 32 := 8191#32
  let v3173 : BitVec 32 := Scalar.andi v3172 c8191_i32_1330
  let c8_i32_1331 : BitVec 32 := 8#32
  let v3174 : BitVec 32 := Scalar.muli v3173 c8_i32_1331
  let v3175 : BitVec 32 := v3174
  let v3176 : Index := Scalar.indexCast v3175
  let c0_1332 : Index := 0#32
  ![v3176.toNat, 0]
def k0_off1082 (v3171 : BitVec 32) : Fin 2 → Nat :=
  let c3_i32_1329 : BitVec 32 := 3#32
  let v3172 : BitVec 32 := Scalar.shrsi v3171 c3_i32_1329
  let c8191_i32_1330 : BitVec 32 := 8191#32
  let v3173 : BitVec 32 := Scalar.andi v3172 c8191_i32_1330
  let v3181 : Index := Scalar.indexCast v3173
  let c0_1334 : Index := 0#32
  ![v3181.toNat, 0]

def k0_chk442 (i : grid0.Coords) (v13 : BitVec 32) (v3171 : BitVec 32) : Prop :=
  (∀ (k0_h5 : k0_cond5 i v13 = 1#1), 8 ∣ (k0_mult439 v3171).toNat) ∧
  (∀ (k0_h5 : k0_cond5 i v13 = 1#1), ∀ a, (k0_off1081 v3171) a + S8x128.size a ≤ S65536x128.size a) ∧
  (∀ (k0_h5 : k0_cond5 i v13 = 1#1), ∀ a, (k0_off1082 v3171) a + S1x128.size a ≤ S8192x128.size a)
theorem k0_mult439_dvd : ∀ (i : grid0.Coords) (v13 : BitVec 32) (v3171 : BitVec 32) (k0_hw442 : k0_chk442 i v13 v3171), ∀ (k0_h5 : k0_cond5 i v13 = 1#1), 8 ∣ (k0_mult439 v3171).toNat := fun i v13 v3171 k0_hw442 k0_h5 => k0_hw442.1 k0_h5
theorem k0_off1081_inb : ∀ (i : grid0.Coords) (v13 : BitVec 32) (v3171 : BitVec 32) (k0_hw442 : k0_chk442 i v13 v3171), ∀ (k0_h5 : k0_cond5 i v13 = 1#1), ∀ a, (k0_off1081 v3171) a + S8x128.size a ≤ S65536x128.size a := fun i v13 v3171 k0_hw442 k0_h5 => k0_hw442.2.1 k0_h5
theorem k0_off1082_inb : ∀ (i : grid0.Coords) (v13 : BitVec 32) (v3171 : BitVec 32) (k0_hw442 : k0_chk442 i v13 v3171), ∀ (k0_h5 : k0_cond5 i v13 = 1#1), ∀ a, (k0_off1082 v3171) a + S1x128.size a ≤ S8192x128.size a := fun i v13 v3171 k0_hw442 k0_h5 => k0_hw442.2.2 k0_h5

def k0_off1083 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c183_i32 : BitVec 32 := 183#32
  let v3186 : BitVec 32 := Scalar.addi v74 c183_i32
  let v3187 : Index := Scalar.indexCast v3186
  ![v3187.toNat]
def k0_mult440 (v3188 : BitVec 32) : BitVec 32 :=
  let c3_i32_1336 : BitVec 32 := 3#32
  let v3189 : BitVec 32 := Scalar.shrsi v3188 c3_i32_1336
  let c8191_i32_1337 : BitVec 32 := 8191#32
  let v3190 : BitVec 32 := Scalar.andi v3189 c8191_i32_1337
  let c8_i32_1338 : BitVec 32 := 8#32
  let v3191 : BitVec 32 := Scalar.muli v3190 c8_i32_1338
  v3191

def k0_off1084 (v3188 : BitVec 32) : Fin 2 → Nat :=
  let c3_i32_1336 : BitVec 32 := 3#32
  let v3189 : BitVec 32 := Scalar.shrsi v3188 c3_i32_1336
  let c8191_i32_1337 : BitVec 32 := 8191#32
  let v3190 : BitVec 32 := Scalar.andi v3189 c8191_i32_1337
  let c8_i32_1338 : BitVec 32 := 8#32
  let v3191 : BitVec 32 := Scalar.muli v3190 c8_i32_1338
  let v3192 : BitVec 32 := v3191
  let v3193 : Index := Scalar.indexCast v3192
  let c0_1339 : Index := 0#32
  ![v3193.toNat, 0]
def k0_off1085 (v3188 : BitVec 32) : Fin 2 → Nat :=
  let c3_i32_1336 : BitVec 32 := 3#32
  let v3189 : BitVec 32 := Scalar.shrsi v3188 c3_i32_1336
  let c8191_i32_1337 : BitVec 32 := 8191#32
  let v3190 : BitVec 32 := Scalar.andi v3189 c8191_i32_1337
  let v3198 : Index := Scalar.indexCast v3190
  let c0_1341 : Index := 0#32
  ![v3198.toNat, 0]

def k0_chk443 (i : grid0.Coords) (v13 : BitVec 32) (v3188 : BitVec 32) : Prop :=
  (∀ (k0_h5 : k0_cond5 i v13 = 1#1), 8 ∣ (k0_mult440 v3188).toNat) ∧
  (∀ (k0_h5 : k0_cond5 i v13 = 1#1), ∀ a, (k0_off1084 v3188) a + S8x128.size a ≤ S65536x128.size a) ∧
  (∀ (k0_h5 : k0_cond5 i v13 = 1#1), ∀ a, (k0_off1085 v3188) a + S1x128.size a ≤ S8192x128.size a)
theorem k0_mult440_dvd : ∀ (i : grid0.Coords) (v13 : BitVec 32) (v3188 : BitVec 32) (k0_hw443 : k0_chk443 i v13 v3188), ∀ (k0_h5 : k0_cond5 i v13 = 1#1), 8 ∣ (k0_mult440 v3188).toNat := fun i v13 v3188 k0_hw443 k0_h5 => k0_hw443.1 k0_h5
theorem k0_off1084_inb : ∀ (i : grid0.Coords) (v13 : BitVec 32) (v3188 : BitVec 32) (k0_hw443 : k0_chk443 i v13 v3188), ∀ (k0_h5 : k0_cond5 i v13 = 1#1), ∀ a, (k0_off1084 v3188) a + S8x128.size a ≤ S65536x128.size a := fun i v13 v3188 k0_hw443 k0_h5 => k0_hw443.2.1 k0_h5
theorem k0_off1085_inb : ∀ (i : grid0.Coords) (v13 : BitVec 32) (v3188 : BitVec 32) (k0_hw443 : k0_chk443 i v13 v3188), ∀ (k0_h5 : k0_cond5 i v13 = 1#1), ∀ a, (k0_off1085 v3188) a + S1x128.size a ≤ S8192x128.size a := fun i v13 v3188 k0_hw443 k0_h5 => k0_hw443.2.2 k0_h5

def k0_off1086 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c184_i32 : BitVec 32 := 184#32
  let v3203 : BitVec 32 := Scalar.addi v74 c184_i32
  let v3204 : Index := Scalar.indexCast v3203
  ![v3204.toNat]
def k0_mult441 (v3205 : BitVec 32) : BitVec 32 :=
  let c3_i32_1343 : BitVec 32 := 3#32
  let v3206 : BitVec 32 := Scalar.shrsi v3205 c3_i32_1343
  let c8191_i32_1344 : BitVec 32 := 8191#32
  let v3207 : BitVec 32 := Scalar.andi v3206 c8191_i32_1344
  let c8_i32_1345 : BitVec 32 := 8#32
  let v3208 : BitVec 32 := Scalar.muli v3207 c8_i32_1345
  v3208

def k0_off1087 (v3205 : BitVec 32) : Fin 2 → Nat :=
  let c3_i32_1343 : BitVec 32 := 3#32
  let v3206 : BitVec 32 := Scalar.shrsi v3205 c3_i32_1343
  let c8191_i32_1344 : BitVec 32 := 8191#32
  let v3207 : BitVec 32 := Scalar.andi v3206 c8191_i32_1344
  let c8_i32_1345 : BitVec 32 := 8#32
  let v3208 : BitVec 32 := Scalar.muli v3207 c8_i32_1345
  let v3209 : BitVec 32 := v3208
  let v3210 : Index := Scalar.indexCast v3209
  let c0_1346 : Index := 0#32
  ![v3210.toNat, 0]
def k0_off1088 (v3205 : BitVec 32) : Fin 2 → Nat :=
  let c3_i32_1343 : BitVec 32 := 3#32
  let v3206 : BitVec 32 := Scalar.shrsi v3205 c3_i32_1343
  let c8191_i32_1344 : BitVec 32 := 8191#32
  let v3207 : BitVec 32 := Scalar.andi v3206 c8191_i32_1344
  let v3215 : Index := Scalar.indexCast v3207
  let c0_1348 : Index := 0#32
  ![v3215.toNat, 0]

def k0_chk444 (i : grid0.Coords) (v13 : BitVec 32) (v3205 : BitVec 32) : Prop :=
  (∀ (k0_h5 : k0_cond5 i v13 = 1#1), 8 ∣ (k0_mult441 v3205).toNat) ∧
  (∀ (k0_h5 : k0_cond5 i v13 = 1#1), ∀ a, (k0_off1087 v3205) a + S8x128.size a ≤ S65536x128.size a) ∧
  (∀ (k0_h5 : k0_cond5 i v13 = 1#1), ∀ a, (k0_off1088 v3205) a + S1x128.size a ≤ S8192x128.size a)
theorem k0_mult441_dvd : ∀ (i : grid0.Coords) (v13 : BitVec 32) (v3205 : BitVec 32) (k0_hw444 : k0_chk444 i v13 v3205), ∀ (k0_h5 : k0_cond5 i v13 = 1#1), 8 ∣ (k0_mult441 v3205).toNat := fun i v13 v3205 k0_hw444 k0_h5 => k0_hw444.1 k0_h5
theorem k0_off1087_inb : ∀ (i : grid0.Coords) (v13 : BitVec 32) (v3205 : BitVec 32) (k0_hw444 : k0_chk444 i v13 v3205), ∀ (k0_h5 : k0_cond5 i v13 = 1#1), ∀ a, (k0_off1087 v3205) a + S8x128.size a ≤ S65536x128.size a := fun i v13 v3205 k0_hw444 k0_h5 => k0_hw444.2.1 k0_h5
theorem k0_off1088_inb : ∀ (i : grid0.Coords) (v13 : BitVec 32) (v3205 : BitVec 32) (k0_hw444 : k0_chk444 i v13 v3205), ∀ (k0_h5 : k0_cond5 i v13 = 1#1), ∀ a, (k0_off1088 v3205) a + S1x128.size a ≤ S8192x128.size a := fun i v13 v3205 k0_hw444 k0_h5 => k0_hw444.2.2 k0_h5

def k0_off1089 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c185_i32 : BitVec 32 := 185#32
  let v3220 : BitVec 32 := Scalar.addi v74 c185_i32
  let v3221 : Index := Scalar.indexCast v3220
  ![v3221.toNat]
def k0_mult442 (v3222 : BitVec 32) : BitVec 32 :=
  let c3_i32_1351 : BitVec 32 := 3#32
  let v3223 : BitVec 32 := Scalar.shrsi v3222 c3_i32_1351
  let c8191_i32_1352 : BitVec 32 := 8191#32
  let v3224 : BitVec 32 := Scalar.andi v3223 c8191_i32_1352
  let c8_i32_1353 : BitVec 32 := 8#32
  let v3225 : BitVec 32 := Scalar.muli v3224 c8_i32_1353
  v3225

def k0_off1090 (v3222 : BitVec 32) : Fin 2 → Nat :=
  let c3_i32_1351 : BitVec 32 := 3#32
  let v3223 : BitVec 32 := Scalar.shrsi v3222 c3_i32_1351
  let c8191_i32_1352 : BitVec 32 := 8191#32
  let v3224 : BitVec 32 := Scalar.andi v3223 c8191_i32_1352
  let c8_i32_1353 : BitVec 32 := 8#32
  let v3225 : BitVec 32 := Scalar.muli v3224 c8_i32_1353
  let v3226 : BitVec 32 := v3225
  let v3227 : Index := Scalar.indexCast v3226
  let c0_1354 : Index := 0#32
  ![v3227.toNat, 0]
def k0_off1091 (v3222 : BitVec 32) : Fin 2 → Nat :=
  let c3_i32_1351 : BitVec 32 := 3#32
  let v3223 : BitVec 32 := Scalar.shrsi v3222 c3_i32_1351
  let c8191_i32_1352 : BitVec 32 := 8191#32
  let v3224 : BitVec 32 := Scalar.andi v3223 c8191_i32_1352
  let v3232 : Index := Scalar.indexCast v3224
  let c0_1356 : Index := 0#32
  ![v3232.toNat, 0]

def k0_chk445 (i : grid0.Coords) (v13 : BitVec 32) (v3222 : BitVec 32) : Prop :=
  (∀ (k0_h5 : k0_cond5 i v13 = 1#1), 8 ∣ (k0_mult442 v3222).toNat) ∧
  (∀ (k0_h5 : k0_cond5 i v13 = 1#1), ∀ a, (k0_off1090 v3222) a + S8x128.size a ≤ S65536x128.size a) ∧
  (∀ (k0_h5 : k0_cond5 i v13 = 1#1), ∀ a, (k0_off1091 v3222) a + S1x128.size a ≤ S8192x128.size a)
theorem k0_mult442_dvd : ∀ (i : grid0.Coords) (v13 : BitVec 32) (v3222 : BitVec 32) (k0_hw445 : k0_chk445 i v13 v3222), ∀ (k0_h5 : k0_cond5 i v13 = 1#1), 8 ∣ (k0_mult442 v3222).toNat := fun i v13 v3222 k0_hw445 k0_h5 => k0_hw445.1 k0_h5
theorem k0_off1090_inb : ∀ (i : grid0.Coords) (v13 : BitVec 32) (v3222 : BitVec 32) (k0_hw445 : k0_chk445 i v13 v3222), ∀ (k0_h5 : k0_cond5 i v13 = 1#1), ∀ a, (k0_off1090 v3222) a + S8x128.size a ≤ S65536x128.size a := fun i v13 v3222 k0_hw445 k0_h5 => k0_hw445.2.1 k0_h5
theorem k0_off1091_inb : ∀ (i : grid0.Coords) (v13 : BitVec 32) (v3222 : BitVec 32) (k0_hw445 : k0_chk445 i v13 v3222), ∀ (k0_h5 : k0_cond5 i v13 = 1#1), ∀ a, (k0_off1091 v3222) a + S1x128.size a ≤ S8192x128.size a := fun i v13 v3222 k0_hw445 k0_h5 => k0_hw445.2.2 k0_h5

def k0_off1092 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c186_i32 : BitVec 32 := 186#32
  let v3237 : BitVec 32 := Scalar.addi v74 c186_i32
  let v3238 : Index := Scalar.indexCast v3237
  ![v3238.toNat]
def k0_mult443 (v3239 : BitVec 32) : BitVec 32 :=
  let c3_i32_1358 : BitVec 32 := 3#32
  let v3240 : BitVec 32 := Scalar.shrsi v3239 c3_i32_1358
  let c8191_i32_1359 : BitVec 32 := 8191#32
  let v3241 : BitVec 32 := Scalar.andi v3240 c8191_i32_1359
  let c8_i32_1360 : BitVec 32 := 8#32
  let v3242 : BitVec 32 := Scalar.muli v3241 c8_i32_1360
  v3242

def k0_off1093 (v3239 : BitVec 32) : Fin 2 → Nat :=
  let c3_i32_1358 : BitVec 32 := 3#32
  let v3240 : BitVec 32 := Scalar.shrsi v3239 c3_i32_1358
  let c8191_i32_1359 : BitVec 32 := 8191#32
  let v3241 : BitVec 32 := Scalar.andi v3240 c8191_i32_1359
  let c8_i32_1360 : BitVec 32 := 8#32
  let v3242 : BitVec 32 := Scalar.muli v3241 c8_i32_1360
  let v3243 : BitVec 32 := v3242
  let v3244 : Index := Scalar.indexCast v3243
  let c0_1361 : Index := 0#32
  ![v3244.toNat, 0]
def k0_off1094 (v3239 : BitVec 32) : Fin 2 → Nat :=
  let c3_i32_1358 : BitVec 32 := 3#32
  let v3240 : BitVec 32 := Scalar.shrsi v3239 c3_i32_1358
  let c8191_i32_1359 : BitVec 32 := 8191#32
  let v3241 : BitVec 32 := Scalar.andi v3240 c8191_i32_1359
  let v3249 : Index := Scalar.indexCast v3241
  let c0_1363 : Index := 0#32
  ![v3249.toNat, 0]

def k0_chk446 (i : grid0.Coords) (v13 : BitVec 32) (v3239 : BitVec 32) : Prop :=
  (∀ (k0_h5 : k0_cond5 i v13 = 1#1), 8 ∣ (k0_mult443 v3239).toNat) ∧
  (∀ (k0_h5 : k0_cond5 i v13 = 1#1), ∀ a, (k0_off1093 v3239) a + S8x128.size a ≤ S65536x128.size a) ∧
  (∀ (k0_h5 : k0_cond5 i v13 = 1#1), ∀ a, (k0_off1094 v3239) a + S1x128.size a ≤ S8192x128.size a)
theorem k0_mult443_dvd : ∀ (i : grid0.Coords) (v13 : BitVec 32) (v3239 : BitVec 32) (k0_hw446 : k0_chk446 i v13 v3239), ∀ (k0_h5 : k0_cond5 i v13 = 1#1), 8 ∣ (k0_mult443 v3239).toNat := fun i v13 v3239 k0_hw446 k0_h5 => k0_hw446.1 k0_h5
theorem k0_off1093_inb : ∀ (i : grid0.Coords) (v13 : BitVec 32) (v3239 : BitVec 32) (k0_hw446 : k0_chk446 i v13 v3239), ∀ (k0_h5 : k0_cond5 i v13 = 1#1), ∀ a, (k0_off1093 v3239) a + S8x128.size a ≤ S65536x128.size a := fun i v13 v3239 k0_hw446 k0_h5 => k0_hw446.2.1 k0_h5
theorem k0_off1094_inb : ∀ (i : grid0.Coords) (v13 : BitVec 32) (v3239 : BitVec 32) (k0_hw446 : k0_chk446 i v13 v3239), ∀ (k0_h5 : k0_cond5 i v13 = 1#1), ∀ a, (k0_off1094 v3239) a + S1x128.size a ≤ S8192x128.size a := fun i v13 v3239 k0_hw446 k0_h5 => k0_hw446.2.2 k0_h5

def k0_off1095 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c187_i32 : BitVec 32 := 187#32
  let v3254 : BitVec 32 := Scalar.addi v74 c187_i32
  let v3255 : Index := Scalar.indexCast v3254
  ![v3255.toNat]
def k0_mult444 (v3256 : BitVec 32) : BitVec 32 :=
  let c3_i32_1365 : BitVec 32 := 3#32
  let v3257 : BitVec 32 := Scalar.shrsi v3256 c3_i32_1365
  let c8191_i32_1366 : BitVec 32 := 8191#32
  let v3258 : BitVec 32 := Scalar.andi v3257 c8191_i32_1366
  let c8_i32_1367 : BitVec 32 := 8#32
  let v3259 : BitVec 32 := Scalar.muli v3258 c8_i32_1367
  v3259

def k0_off1096 (v3256 : BitVec 32) : Fin 2 → Nat :=
  let c3_i32_1365 : BitVec 32 := 3#32
  let v3257 : BitVec 32 := Scalar.shrsi v3256 c3_i32_1365
  let c8191_i32_1366 : BitVec 32 := 8191#32
  let v3258 : BitVec 32 := Scalar.andi v3257 c8191_i32_1366
  let c8_i32_1367 : BitVec 32 := 8#32
  let v3259 : BitVec 32 := Scalar.muli v3258 c8_i32_1367
  let v3260 : BitVec 32 := v3259
  let v3261 : Index := Scalar.indexCast v3260
  let c0_1368 : Index := 0#32
  ![v3261.toNat, 0]
def k0_off1097 (v3256 : BitVec 32) : Fin 2 → Nat :=
  let c3_i32_1365 : BitVec 32 := 3#32
  let v3257 : BitVec 32 := Scalar.shrsi v3256 c3_i32_1365
  let c8191_i32_1366 : BitVec 32 := 8191#32
  let v3258 : BitVec 32 := Scalar.andi v3257 c8191_i32_1366
  let v3266 : Index := Scalar.indexCast v3258
  let c0_1370 : Index := 0#32
  ![v3266.toNat, 0]

def k0_chk447 (i : grid0.Coords) (v13 : BitVec 32) (v3256 : BitVec 32) : Prop :=
  (∀ (k0_h5 : k0_cond5 i v13 = 1#1), 8 ∣ (k0_mult444 v3256).toNat) ∧
  (∀ (k0_h5 : k0_cond5 i v13 = 1#1), ∀ a, (k0_off1096 v3256) a + S8x128.size a ≤ S65536x128.size a) ∧
  (∀ (k0_h5 : k0_cond5 i v13 = 1#1), ∀ a, (k0_off1097 v3256) a + S1x128.size a ≤ S8192x128.size a)
theorem k0_mult444_dvd : ∀ (i : grid0.Coords) (v13 : BitVec 32) (v3256 : BitVec 32) (k0_hw447 : k0_chk447 i v13 v3256), ∀ (k0_h5 : k0_cond5 i v13 = 1#1), 8 ∣ (k0_mult444 v3256).toNat := fun i v13 v3256 k0_hw447 k0_h5 => k0_hw447.1 k0_h5
theorem k0_off1096_inb : ∀ (i : grid0.Coords) (v13 : BitVec 32) (v3256 : BitVec 32) (k0_hw447 : k0_chk447 i v13 v3256), ∀ (k0_h5 : k0_cond5 i v13 = 1#1), ∀ a, (k0_off1096 v3256) a + S8x128.size a ≤ S65536x128.size a := fun i v13 v3256 k0_hw447 k0_h5 => k0_hw447.2.1 k0_h5
theorem k0_off1097_inb : ∀ (i : grid0.Coords) (v13 : BitVec 32) (v3256 : BitVec 32) (k0_hw447 : k0_chk447 i v13 v3256), ∀ (k0_h5 : k0_cond5 i v13 = 1#1), ∀ a, (k0_off1097 v3256) a + S1x128.size a ≤ S8192x128.size a := fun i v13 v3256 k0_hw447 k0_h5 => k0_hw447.2.2 k0_h5

def k0_off1098 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c188_i32 : BitVec 32 := 188#32
  let v3271 : BitVec 32 := Scalar.addi v74 c188_i32
  let v3272 : Index := Scalar.indexCast v3271
  ![v3272.toNat]
def k0_mult445 (v3273 : BitVec 32) : BitVec 32 :=
  let c3_i32_1372 : BitVec 32 := 3#32
  let v3274 : BitVec 32 := Scalar.shrsi v3273 c3_i32_1372
  let c8191_i32_1373 : BitVec 32 := 8191#32
  let v3275 : BitVec 32 := Scalar.andi v3274 c8191_i32_1373
  let c8_i32_1374 : BitVec 32 := 8#32
  let v3276 : BitVec 32 := Scalar.muli v3275 c8_i32_1374
  v3276

def k0_off1099 (v3273 : BitVec 32) : Fin 2 → Nat :=
  let c3_i32_1372 : BitVec 32 := 3#32
  let v3274 : BitVec 32 := Scalar.shrsi v3273 c3_i32_1372
  let c8191_i32_1373 : BitVec 32 := 8191#32
  let v3275 : BitVec 32 := Scalar.andi v3274 c8191_i32_1373
  let c8_i32_1374 : BitVec 32 := 8#32
  let v3276 : BitVec 32 := Scalar.muli v3275 c8_i32_1374
  let v3277 : BitVec 32 := v3276
  let v3278 : Index := Scalar.indexCast v3277
  let c0_1375 : Index := 0#32
  ![v3278.toNat, 0]
def k0_off1100 (v3273 : BitVec 32) : Fin 2 → Nat :=
  let c3_i32_1372 : BitVec 32 := 3#32
  let v3274 : BitVec 32 := Scalar.shrsi v3273 c3_i32_1372
  let c8191_i32_1373 : BitVec 32 := 8191#32
  let v3275 : BitVec 32 := Scalar.andi v3274 c8191_i32_1373
  let v3283 : Index := Scalar.indexCast v3275
  let c0_1377 : Index := 0#32
  ![v3283.toNat, 0]

def k0_chk448 (i : grid0.Coords) (v13 : BitVec 32) (v3273 : BitVec 32) : Prop :=
  (∀ (k0_h5 : k0_cond5 i v13 = 1#1), 8 ∣ (k0_mult445 v3273).toNat) ∧
  (∀ (k0_h5 : k0_cond5 i v13 = 1#1), ∀ a, (k0_off1099 v3273) a + S8x128.size a ≤ S65536x128.size a) ∧
  (∀ (k0_h5 : k0_cond5 i v13 = 1#1), ∀ a, (k0_off1100 v3273) a + S1x128.size a ≤ S8192x128.size a)
theorem k0_mult445_dvd : ∀ (i : grid0.Coords) (v13 : BitVec 32) (v3273 : BitVec 32) (k0_hw448 : k0_chk448 i v13 v3273), ∀ (k0_h5 : k0_cond5 i v13 = 1#1), 8 ∣ (k0_mult445 v3273).toNat := fun i v13 v3273 k0_hw448 k0_h5 => k0_hw448.1 k0_h5
theorem k0_off1099_inb : ∀ (i : grid0.Coords) (v13 : BitVec 32) (v3273 : BitVec 32) (k0_hw448 : k0_chk448 i v13 v3273), ∀ (k0_h5 : k0_cond5 i v13 = 1#1), ∀ a, (k0_off1099 v3273) a + S8x128.size a ≤ S65536x128.size a := fun i v13 v3273 k0_hw448 k0_h5 => k0_hw448.2.1 k0_h5
theorem k0_off1100_inb : ∀ (i : grid0.Coords) (v13 : BitVec 32) (v3273 : BitVec 32) (k0_hw448 : k0_chk448 i v13 v3273), ∀ (k0_h5 : k0_cond5 i v13 = 1#1), ∀ a, (k0_off1100 v3273) a + S1x128.size a ≤ S8192x128.size a := fun i v13 v3273 k0_hw448 k0_h5 => k0_hw448.2.2 k0_h5

def k0_off1101 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c189_i32 : BitVec 32 := 189#32
  let v3288 : BitVec 32 := Scalar.addi v74 c189_i32
  let v3289 : Index := Scalar.indexCast v3288
  ![v3289.toNat]
def k0_mult446 (v3290 : BitVec 32) : BitVec 32 :=
  let c3_i32_1379 : BitVec 32 := 3#32
  let v3291 : BitVec 32 := Scalar.shrsi v3290 c3_i32_1379
  let c8191_i32_1380 : BitVec 32 := 8191#32
  let v3292 : BitVec 32 := Scalar.andi v3291 c8191_i32_1380
  let c8_i32_1381 : BitVec 32 := 8#32
  let v3293 : BitVec 32 := Scalar.muli v3292 c8_i32_1381
  v3293

def k0_off1102 (v3290 : BitVec 32) : Fin 2 → Nat :=
  let c3_i32_1379 : BitVec 32 := 3#32
  let v3291 : BitVec 32 := Scalar.shrsi v3290 c3_i32_1379
  let c8191_i32_1380 : BitVec 32 := 8191#32
  let v3292 : BitVec 32 := Scalar.andi v3291 c8191_i32_1380
  let c8_i32_1381 : BitVec 32 := 8#32
  let v3293 : BitVec 32 := Scalar.muli v3292 c8_i32_1381
  let v3294 : BitVec 32 := v3293
  let v3295 : Index := Scalar.indexCast v3294
  let c0_1382 : Index := 0#32
  ![v3295.toNat, 0]
def k0_off1103 (v3290 : BitVec 32) : Fin 2 → Nat :=
  let c3_i32_1379 : BitVec 32 := 3#32
  let v3291 : BitVec 32 := Scalar.shrsi v3290 c3_i32_1379
  let c8191_i32_1380 : BitVec 32 := 8191#32
  let v3292 : BitVec 32 := Scalar.andi v3291 c8191_i32_1380
  let v3300 : Index := Scalar.indexCast v3292
  let c0_1384 : Index := 0#32
  ![v3300.toNat, 0]

def k0_chk449 (i : grid0.Coords) (v13 : BitVec 32) (v3290 : BitVec 32) : Prop :=
  (∀ (k0_h5 : k0_cond5 i v13 = 1#1), 8 ∣ (k0_mult446 v3290).toNat) ∧
  (∀ (k0_h5 : k0_cond5 i v13 = 1#1), ∀ a, (k0_off1102 v3290) a + S8x128.size a ≤ S65536x128.size a) ∧
  (∀ (k0_h5 : k0_cond5 i v13 = 1#1), ∀ a, (k0_off1103 v3290) a + S1x128.size a ≤ S8192x128.size a)
theorem k0_mult446_dvd : ∀ (i : grid0.Coords) (v13 : BitVec 32) (v3290 : BitVec 32) (k0_hw449 : k0_chk449 i v13 v3290), ∀ (k0_h5 : k0_cond5 i v13 = 1#1), 8 ∣ (k0_mult446 v3290).toNat := fun i v13 v3290 k0_hw449 k0_h5 => k0_hw449.1 k0_h5
theorem k0_off1102_inb : ∀ (i : grid0.Coords) (v13 : BitVec 32) (v3290 : BitVec 32) (k0_hw449 : k0_chk449 i v13 v3290), ∀ (k0_h5 : k0_cond5 i v13 = 1#1), ∀ a, (k0_off1102 v3290) a + S8x128.size a ≤ S65536x128.size a := fun i v13 v3290 k0_hw449 k0_h5 => k0_hw449.2.1 k0_h5
theorem k0_off1103_inb : ∀ (i : grid0.Coords) (v13 : BitVec 32) (v3290 : BitVec 32) (k0_hw449 : k0_chk449 i v13 v3290), ∀ (k0_h5 : k0_cond5 i v13 = 1#1), ∀ a, (k0_off1103 v3290) a + S1x128.size a ≤ S8192x128.size a := fun i v13 v3290 k0_hw449 k0_h5 => k0_hw449.2.2 k0_h5

def k0_off1104 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c190_i32 : BitVec 32 := 190#32
  let v3305 : BitVec 32 := Scalar.addi v74 c190_i32
  let v3306 : Index := Scalar.indexCast v3305
  ![v3306.toNat]
def k0_mult447 (v3307 : BitVec 32) : BitVec 32 :=
  let c3_i32_1386 : BitVec 32 := 3#32
  let v3308 : BitVec 32 := Scalar.shrsi v3307 c3_i32_1386
  let c8191_i32_1387 : BitVec 32 := 8191#32
  let v3309 : BitVec 32 := Scalar.andi v3308 c8191_i32_1387
  let c8_i32_1388 : BitVec 32 := 8#32
  let v3310 : BitVec 32 := Scalar.muli v3309 c8_i32_1388
  v3310

def k0_off1105 (v3307 : BitVec 32) : Fin 2 → Nat :=
  let c3_i32_1386 : BitVec 32 := 3#32
  let v3308 : BitVec 32 := Scalar.shrsi v3307 c3_i32_1386
  let c8191_i32_1387 : BitVec 32 := 8191#32
  let v3309 : BitVec 32 := Scalar.andi v3308 c8191_i32_1387
  let c8_i32_1388 : BitVec 32 := 8#32
  let v3310 : BitVec 32 := Scalar.muli v3309 c8_i32_1388
  let v3311 : BitVec 32 := v3310
  let v3312 : Index := Scalar.indexCast v3311
  let c0_1389 : Index := 0#32
  ![v3312.toNat, 0]
def k0_off1106 (v3307 : BitVec 32) : Fin 2 → Nat :=
  let c3_i32_1386 : BitVec 32 := 3#32
  let v3308 : BitVec 32 := Scalar.shrsi v3307 c3_i32_1386
  let c8191_i32_1387 : BitVec 32 := 8191#32
  let v3309 : BitVec 32 := Scalar.andi v3308 c8191_i32_1387
  let v3317 : Index := Scalar.indexCast v3309
  let c0_1391 : Index := 0#32
  ![v3317.toNat, 0]

def k0_chk450 (i : grid0.Coords) (v13 : BitVec 32) (v3307 : BitVec 32) : Prop :=
  (∀ (k0_h5 : k0_cond5 i v13 = 1#1), 8 ∣ (k0_mult447 v3307).toNat) ∧
  (∀ (k0_h5 : k0_cond5 i v13 = 1#1), ∀ a, (k0_off1105 v3307) a + S8x128.size a ≤ S65536x128.size a) ∧
  (∀ (k0_h5 : k0_cond5 i v13 = 1#1), ∀ a, (k0_off1106 v3307) a + S1x128.size a ≤ S8192x128.size a)
theorem k0_mult447_dvd : ∀ (i : grid0.Coords) (v13 : BitVec 32) (v3307 : BitVec 32) (k0_hw450 : k0_chk450 i v13 v3307), ∀ (k0_h5 : k0_cond5 i v13 = 1#1), 8 ∣ (k0_mult447 v3307).toNat := fun i v13 v3307 k0_hw450 k0_h5 => k0_hw450.1 k0_h5
theorem k0_off1105_inb : ∀ (i : grid0.Coords) (v13 : BitVec 32) (v3307 : BitVec 32) (k0_hw450 : k0_chk450 i v13 v3307), ∀ (k0_h5 : k0_cond5 i v13 = 1#1), ∀ a, (k0_off1105 v3307) a + S8x128.size a ≤ S65536x128.size a := fun i v13 v3307 k0_hw450 k0_h5 => k0_hw450.2.1 k0_h5
theorem k0_off1106_inb : ∀ (i : grid0.Coords) (v13 : BitVec 32) (v3307 : BitVec 32) (k0_hw450 : k0_chk450 i v13 v3307), ∀ (k0_h5 : k0_cond5 i v13 = 1#1), ∀ a, (k0_off1106 v3307) a + S1x128.size a ≤ S8192x128.size a := fun i v13 v3307 k0_hw450 k0_h5 => k0_hw450.2.2 k0_h5

def k0_off1107 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c191_i32 : BitVec 32 := 191#32
  let v3322 : BitVec 32 := Scalar.addi v74 c191_i32
  let v3323 : Index := Scalar.indexCast v3322
  ![v3323.toNat]
def k0_mult448 (v3324 : BitVec 32) : BitVec 32 :=
  let c3_i32_1393 : BitVec 32 := 3#32
  let v3325 : BitVec 32 := Scalar.shrsi v3324 c3_i32_1393
  let c8191_i32_1394 : BitVec 32 := 8191#32
  let v3326 : BitVec 32 := Scalar.andi v3325 c8191_i32_1394
  let c8_i32_1395 : BitVec 32 := 8#32
  let v3327 : BitVec 32 := Scalar.muli v3326 c8_i32_1395
  v3327

def k0_off1108 (v3324 : BitVec 32) : Fin 2 → Nat :=
  let c3_i32_1393 : BitVec 32 := 3#32
  let v3325 : BitVec 32 := Scalar.shrsi v3324 c3_i32_1393
  let c8191_i32_1394 : BitVec 32 := 8191#32
  let v3326 : BitVec 32 := Scalar.andi v3325 c8191_i32_1394
  let c8_i32_1395 : BitVec 32 := 8#32
  let v3327 : BitVec 32 := Scalar.muli v3326 c8_i32_1395
  let v3328 : BitVec 32 := v3327
  let v3329 : Index := Scalar.indexCast v3328
  let c0_1396 : Index := 0#32
  ![v3329.toNat, 0]
def k0_off1109 (v3324 : BitVec 32) : Fin 2 → Nat :=
  let c3_i32_1393 : BitVec 32 := 3#32
  let v3325 : BitVec 32 := Scalar.shrsi v3324 c3_i32_1393
  let c8191_i32_1394 : BitVec 32 := 8191#32
  let v3326 : BitVec 32 := Scalar.andi v3325 c8191_i32_1394
  let v3334 : Index := Scalar.indexCast v3326
  let c0_1398 : Index := 0#32
  ![v3334.toNat, 0]

def k0_chk451 (i : grid0.Coords) (v13 : BitVec 32) (v3324 : BitVec 32) : Prop :=
  (∀ (k0_h5 : k0_cond5 i v13 = 1#1), 8 ∣ (k0_mult448 v3324).toNat) ∧
  (∀ (k0_h5 : k0_cond5 i v13 = 1#1), ∀ a, (k0_off1108 v3324) a + S8x128.size a ≤ S65536x128.size a) ∧
  (∀ (k0_h5 : k0_cond5 i v13 = 1#1), ∀ a, (k0_off1109 v3324) a + S1x128.size a ≤ S8192x128.size a)
theorem k0_mult448_dvd : ∀ (i : grid0.Coords) (v13 : BitVec 32) (v3324 : BitVec 32) (k0_hw451 : k0_chk451 i v13 v3324), ∀ (k0_h5 : k0_cond5 i v13 = 1#1), 8 ∣ (k0_mult448 v3324).toNat := fun i v13 v3324 k0_hw451 k0_h5 => k0_hw451.1 k0_h5
theorem k0_off1108_inb : ∀ (i : grid0.Coords) (v13 : BitVec 32) (v3324 : BitVec 32) (k0_hw451 : k0_chk451 i v13 v3324), ∀ (k0_h5 : k0_cond5 i v13 = 1#1), ∀ a, (k0_off1108 v3324) a + S8x128.size a ≤ S65536x128.size a := fun i v13 v3324 k0_hw451 k0_h5 => k0_hw451.2.1 k0_h5
theorem k0_off1109_inb : ∀ (i : grid0.Coords) (v13 : BitVec 32) (v3324 : BitVec 32) (k0_hw451 : k0_chk451 i v13 v3324), ∀ (k0_h5 : k0_cond5 i v13 = 1#1), ∀ a, (k0_off1109 v3324) a + S1x128.size a ≤ S8192x128.size a := fun i v13 v3324 k0_hw451 k0_h5 => k0_hw451.2.2 k0_h5

def k0_off1110 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c192_i32 : BitVec 32 := 192#32
  let v3339 : BitVec 32 := Scalar.addi v74 c192_i32
  let v3340 : Index := Scalar.indexCast v3339
  ![v3340.toNat]
def k0_mult449 (v3341 : BitVec 32) : BitVec 32 :=
  let c3_i32_1400 : BitVec 32 := 3#32
  let v3342 : BitVec 32 := Scalar.shrsi v3341 c3_i32_1400
  let c8191_i32_1401 : BitVec 32 := 8191#32
  let v3343 : BitVec 32 := Scalar.andi v3342 c8191_i32_1401
  let c8_i32_1402 : BitVec 32 := 8#32
  let v3344 : BitVec 32 := Scalar.muli v3343 c8_i32_1402
  v3344

def k0_off1111 (v3341 : BitVec 32) : Fin 2 → Nat :=
  let c3_i32_1400 : BitVec 32 := 3#32
  let v3342 : BitVec 32 := Scalar.shrsi v3341 c3_i32_1400
  let c8191_i32_1401 : BitVec 32 := 8191#32
  let v3343 : BitVec 32 := Scalar.andi v3342 c8191_i32_1401
  let c8_i32_1402 : BitVec 32 := 8#32
  let v3344 : BitVec 32 := Scalar.muli v3343 c8_i32_1402
  let v3345 : BitVec 32 := v3344
  let v3346 : Index := Scalar.indexCast v3345
  let c0_1403 : Index := 0#32
  ![v3346.toNat, 0]
def k0_off1112 (v3341 : BitVec 32) : Fin 2 → Nat :=
  let c3_i32_1400 : BitVec 32 := 3#32
  let v3342 : BitVec 32 := Scalar.shrsi v3341 c3_i32_1400
  let c8191_i32_1401 : BitVec 32 := 8191#32
  let v3343 : BitVec 32 := Scalar.andi v3342 c8191_i32_1401
  let v3351 : Index := Scalar.indexCast v3343
  let c0_1405 : Index := 0#32
  ![v3351.toNat, 0]

def k0_chk452 (i : grid0.Coords) (v13 : BitVec 32) (v3341 : BitVec 32) : Prop :=
  (∀ (k0_h5 : k0_cond5 i v13 = 1#1), 8 ∣ (k0_mult449 v3341).toNat) ∧
  (∀ (k0_h5 : k0_cond5 i v13 = 1#1), ∀ a, (k0_off1111 v3341) a + S8x128.size a ≤ S65536x128.size a) ∧
  (∀ (k0_h5 : k0_cond5 i v13 = 1#1), ∀ a, (k0_off1112 v3341) a + S1x128.size a ≤ S8192x128.size a)
theorem k0_mult449_dvd : ∀ (i : grid0.Coords) (v13 : BitVec 32) (v3341 : BitVec 32) (k0_hw452 : k0_chk452 i v13 v3341), ∀ (k0_h5 : k0_cond5 i v13 = 1#1), 8 ∣ (k0_mult449 v3341).toNat := fun i v13 v3341 k0_hw452 k0_h5 => k0_hw452.1 k0_h5
theorem k0_off1111_inb : ∀ (i : grid0.Coords) (v13 : BitVec 32) (v3341 : BitVec 32) (k0_hw452 : k0_chk452 i v13 v3341), ∀ (k0_h5 : k0_cond5 i v13 = 1#1), ∀ a, (k0_off1111 v3341) a + S8x128.size a ≤ S65536x128.size a := fun i v13 v3341 k0_hw452 k0_h5 => k0_hw452.2.1 k0_h5
theorem k0_off1112_inb : ∀ (i : grid0.Coords) (v13 : BitVec 32) (v3341 : BitVec 32) (k0_hw452 : k0_chk452 i v13 v3341), ∀ (k0_h5 : k0_cond5 i v13 = 1#1), ∀ a, (k0_off1112 v3341) a + S1x128.size a ≤ S8192x128.size a := fun i v13 v3341 k0_hw452 k0_h5 => k0_hw452.2.2 k0_h5

def k0_off1113 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c193_i32 : BitVec 32 := 193#32
  let v3356 : BitVec 32 := Scalar.addi v74 c193_i32
  let v3357 : Index := Scalar.indexCast v3356
  ![v3357.toNat]
def k0_mult450 (v3358 : BitVec 32) : BitVec 32 :=
  let c3_i32_1408 : BitVec 32 := 3#32
  let v3359 : BitVec 32 := Scalar.shrsi v3358 c3_i32_1408
  let c8191_i32_1409 : BitVec 32 := 8191#32
  let v3360 : BitVec 32 := Scalar.andi v3359 c8191_i32_1409
  let c8_i32_1410 : BitVec 32 := 8#32
  let v3361 : BitVec 32 := Scalar.muli v3360 c8_i32_1410
  v3361

def k0_off1114 (v3358 : BitVec 32) : Fin 2 → Nat :=
  let c3_i32_1408 : BitVec 32 := 3#32
  let v3359 : BitVec 32 := Scalar.shrsi v3358 c3_i32_1408
  let c8191_i32_1409 : BitVec 32 := 8191#32
  let v3360 : BitVec 32 := Scalar.andi v3359 c8191_i32_1409
  let c8_i32_1410 : BitVec 32 := 8#32
  let v3361 : BitVec 32 := Scalar.muli v3360 c8_i32_1410
  let v3362 : BitVec 32 := v3361
  let v3363 : Index := Scalar.indexCast v3362
  let c0_1411 : Index := 0#32
  ![v3363.toNat, 0]
def k0_off1115 (v3358 : BitVec 32) : Fin 2 → Nat :=
  let c3_i32_1408 : BitVec 32 := 3#32
  let v3359 : BitVec 32 := Scalar.shrsi v3358 c3_i32_1408
  let c8191_i32_1409 : BitVec 32 := 8191#32
  let v3360 : BitVec 32 := Scalar.andi v3359 c8191_i32_1409
  let v3368 : Index := Scalar.indexCast v3360
  let c0_1413 : Index := 0#32
  ![v3368.toNat, 0]

def k0_chk453 (i : grid0.Coords) (v13 : BitVec 32) (v3358 : BitVec 32) : Prop :=
  (∀ (k0_h5 : k0_cond5 i v13 = 1#1), 8 ∣ (k0_mult450 v3358).toNat) ∧
  (∀ (k0_h5 : k0_cond5 i v13 = 1#1), ∀ a, (k0_off1114 v3358) a + S8x128.size a ≤ S65536x128.size a) ∧
  (∀ (k0_h5 : k0_cond5 i v13 = 1#1), ∀ a, (k0_off1115 v3358) a + S1x128.size a ≤ S8192x128.size a)
theorem k0_mult450_dvd : ∀ (i : grid0.Coords) (v13 : BitVec 32) (v3358 : BitVec 32) (k0_hw453 : k0_chk453 i v13 v3358), ∀ (k0_h5 : k0_cond5 i v13 = 1#1), 8 ∣ (k0_mult450 v3358).toNat := fun i v13 v3358 k0_hw453 k0_h5 => k0_hw453.1 k0_h5
theorem k0_off1114_inb : ∀ (i : grid0.Coords) (v13 : BitVec 32) (v3358 : BitVec 32) (k0_hw453 : k0_chk453 i v13 v3358), ∀ (k0_h5 : k0_cond5 i v13 = 1#1), ∀ a, (k0_off1114 v3358) a + S8x128.size a ≤ S65536x128.size a := fun i v13 v3358 k0_hw453 k0_h5 => k0_hw453.2.1 k0_h5
theorem k0_off1115_inb : ∀ (i : grid0.Coords) (v13 : BitVec 32) (v3358 : BitVec 32) (k0_hw453 : k0_chk453 i v13 v3358), ∀ (k0_h5 : k0_cond5 i v13 = 1#1), ∀ a, (k0_off1115 v3358) a + S1x128.size a ≤ S8192x128.size a := fun i v13 v3358 k0_hw453 k0_h5 => k0_hw453.2.2 k0_h5

def k0_off1116 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c194_i32 : BitVec 32 := 194#32
  let v3373 : BitVec 32 := Scalar.addi v74 c194_i32
  let v3374 : Index := Scalar.indexCast v3373
  ![v3374.toNat]
def k0_mult451 (v3375 : BitVec 32) : BitVec 32 :=
  let c3_i32_1415 : BitVec 32 := 3#32
  let v3376 : BitVec 32 := Scalar.shrsi v3375 c3_i32_1415
  let c8191_i32_1416 : BitVec 32 := 8191#32
  let v3377 : BitVec 32 := Scalar.andi v3376 c8191_i32_1416
  let c8_i32_1417 : BitVec 32 := 8#32
  let v3378 : BitVec 32 := Scalar.muli v3377 c8_i32_1417
  v3378

def k0_off1117 (v3375 : BitVec 32) : Fin 2 → Nat :=
  let c3_i32_1415 : BitVec 32 := 3#32
  let v3376 : BitVec 32 := Scalar.shrsi v3375 c3_i32_1415
  let c8191_i32_1416 : BitVec 32 := 8191#32
  let v3377 : BitVec 32 := Scalar.andi v3376 c8191_i32_1416
  let c8_i32_1417 : BitVec 32 := 8#32
  let v3378 : BitVec 32 := Scalar.muli v3377 c8_i32_1417
  let v3379 : BitVec 32 := v3378
  let v3380 : Index := Scalar.indexCast v3379
  let c0_1418 : Index := 0#32
  ![v3380.toNat, 0]
def k0_off1118 (v3375 : BitVec 32) : Fin 2 → Nat :=
  let c3_i32_1415 : BitVec 32 := 3#32
  let v3376 : BitVec 32 := Scalar.shrsi v3375 c3_i32_1415
  let c8191_i32_1416 : BitVec 32 := 8191#32
  let v3377 : BitVec 32 := Scalar.andi v3376 c8191_i32_1416
  let v3385 : Index := Scalar.indexCast v3377
  let c0_1420 : Index := 0#32
  ![v3385.toNat, 0]

def k0_chk454 (i : grid0.Coords) (v13 : BitVec 32) (v3375 : BitVec 32) : Prop :=
  (∀ (k0_h5 : k0_cond5 i v13 = 1#1), 8 ∣ (k0_mult451 v3375).toNat) ∧
  (∀ (k0_h5 : k0_cond5 i v13 = 1#1), ∀ a, (k0_off1117 v3375) a + S8x128.size a ≤ S65536x128.size a) ∧
  (∀ (k0_h5 : k0_cond5 i v13 = 1#1), ∀ a, (k0_off1118 v3375) a + S1x128.size a ≤ S8192x128.size a)
theorem k0_mult451_dvd : ∀ (i : grid0.Coords) (v13 : BitVec 32) (v3375 : BitVec 32) (k0_hw454 : k0_chk454 i v13 v3375), ∀ (k0_h5 : k0_cond5 i v13 = 1#1), 8 ∣ (k0_mult451 v3375).toNat := fun i v13 v3375 k0_hw454 k0_h5 => k0_hw454.1 k0_h5
theorem k0_off1117_inb : ∀ (i : grid0.Coords) (v13 : BitVec 32) (v3375 : BitVec 32) (k0_hw454 : k0_chk454 i v13 v3375), ∀ (k0_h5 : k0_cond5 i v13 = 1#1), ∀ a, (k0_off1117 v3375) a + S8x128.size a ≤ S65536x128.size a := fun i v13 v3375 k0_hw454 k0_h5 => k0_hw454.2.1 k0_h5
theorem k0_off1118_inb : ∀ (i : grid0.Coords) (v13 : BitVec 32) (v3375 : BitVec 32) (k0_hw454 : k0_chk454 i v13 v3375), ∀ (k0_h5 : k0_cond5 i v13 = 1#1), ∀ a, (k0_off1118 v3375) a + S1x128.size a ≤ S8192x128.size a := fun i v13 v3375 k0_hw454 k0_h5 => k0_hw454.2.2 k0_h5

def k0_off1119 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c195_i32 : BitVec 32 := 195#32
  let v3390 : BitVec 32 := Scalar.addi v74 c195_i32
  let v3391 : Index := Scalar.indexCast v3390
  ![v3391.toNat]
def k0_mult452 (v3392 : BitVec 32) : BitVec 32 :=
  let c3_i32_1422 : BitVec 32 := 3#32
  let v3393 : BitVec 32 := Scalar.shrsi v3392 c3_i32_1422
  let c8191_i32_1423 : BitVec 32 := 8191#32
  let v3394 : BitVec 32 := Scalar.andi v3393 c8191_i32_1423
  let c8_i32_1424 : BitVec 32 := 8#32
  let v3395 : BitVec 32 := Scalar.muli v3394 c8_i32_1424
  v3395

def k0_off1120 (v3392 : BitVec 32) : Fin 2 → Nat :=
  let c3_i32_1422 : BitVec 32 := 3#32
  let v3393 : BitVec 32 := Scalar.shrsi v3392 c3_i32_1422
  let c8191_i32_1423 : BitVec 32 := 8191#32
  let v3394 : BitVec 32 := Scalar.andi v3393 c8191_i32_1423
  let c8_i32_1424 : BitVec 32 := 8#32
  let v3395 : BitVec 32 := Scalar.muli v3394 c8_i32_1424
  let v3396 : BitVec 32 := v3395
  let v3397 : Index := Scalar.indexCast v3396
  let c0_1425 : Index := 0#32
  ![v3397.toNat, 0]
def k0_off1121 (v3392 : BitVec 32) : Fin 2 → Nat :=
  let c3_i32_1422 : BitVec 32 := 3#32
  let v3393 : BitVec 32 := Scalar.shrsi v3392 c3_i32_1422
  let c8191_i32_1423 : BitVec 32 := 8191#32
  let v3394 : BitVec 32 := Scalar.andi v3393 c8191_i32_1423
  let v3402 : Index := Scalar.indexCast v3394
  let c0_1427 : Index := 0#32
  ![v3402.toNat, 0]

def k0_chk455 (i : grid0.Coords) (v13 : BitVec 32) (v3392 : BitVec 32) : Prop :=
  (∀ (k0_h5 : k0_cond5 i v13 = 1#1), 8 ∣ (k0_mult452 v3392).toNat) ∧
  (∀ (k0_h5 : k0_cond5 i v13 = 1#1), ∀ a, (k0_off1120 v3392) a + S8x128.size a ≤ S65536x128.size a) ∧
  (∀ (k0_h5 : k0_cond5 i v13 = 1#1), ∀ a, (k0_off1121 v3392) a + S1x128.size a ≤ S8192x128.size a)
theorem k0_mult452_dvd : ∀ (i : grid0.Coords) (v13 : BitVec 32) (v3392 : BitVec 32) (k0_hw455 : k0_chk455 i v13 v3392), ∀ (k0_h5 : k0_cond5 i v13 = 1#1), 8 ∣ (k0_mult452 v3392).toNat := fun i v13 v3392 k0_hw455 k0_h5 => k0_hw455.1 k0_h5
theorem k0_off1120_inb : ∀ (i : grid0.Coords) (v13 : BitVec 32) (v3392 : BitVec 32) (k0_hw455 : k0_chk455 i v13 v3392), ∀ (k0_h5 : k0_cond5 i v13 = 1#1), ∀ a, (k0_off1120 v3392) a + S8x128.size a ≤ S65536x128.size a := fun i v13 v3392 k0_hw455 k0_h5 => k0_hw455.2.1 k0_h5
theorem k0_off1121_inb : ∀ (i : grid0.Coords) (v13 : BitVec 32) (v3392 : BitVec 32) (k0_hw455 : k0_chk455 i v13 v3392), ∀ (k0_h5 : k0_cond5 i v13 = 1#1), ∀ a, (k0_off1121 v3392) a + S1x128.size a ≤ S8192x128.size a := fun i v13 v3392 k0_hw455 k0_h5 => k0_hw455.2.2 k0_h5

def k0_off1122 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c196_i32 : BitVec 32 := 196#32
  let v3407 : BitVec 32 := Scalar.addi v74 c196_i32
  let v3408 : Index := Scalar.indexCast v3407
  ![v3408.toNat]
def k0_mult453 (v3409 : BitVec 32) : BitVec 32 :=
  let c3_i32_1429 : BitVec 32 := 3#32
  let v3410 : BitVec 32 := Scalar.shrsi v3409 c3_i32_1429
  let c8191_i32_1430 : BitVec 32 := 8191#32
  let v3411 : BitVec 32 := Scalar.andi v3410 c8191_i32_1430
  let c8_i32_1431 : BitVec 32 := 8#32
  let v3412 : BitVec 32 := Scalar.muli v3411 c8_i32_1431
  v3412

def k0_off1123 (v3409 : BitVec 32) : Fin 2 → Nat :=
  let c3_i32_1429 : BitVec 32 := 3#32
  let v3410 : BitVec 32 := Scalar.shrsi v3409 c3_i32_1429
  let c8191_i32_1430 : BitVec 32 := 8191#32
  let v3411 : BitVec 32 := Scalar.andi v3410 c8191_i32_1430
  let c8_i32_1431 : BitVec 32 := 8#32
  let v3412 : BitVec 32 := Scalar.muli v3411 c8_i32_1431
  let v3413 : BitVec 32 := v3412
  let v3414 : Index := Scalar.indexCast v3413
  let c0_1432 : Index := 0#32
  ![v3414.toNat, 0]
def k0_off1124 (v3409 : BitVec 32) : Fin 2 → Nat :=
  let c3_i32_1429 : BitVec 32 := 3#32
  let v3410 : BitVec 32 := Scalar.shrsi v3409 c3_i32_1429
  let c8191_i32_1430 : BitVec 32 := 8191#32
  let v3411 : BitVec 32 := Scalar.andi v3410 c8191_i32_1430
  let v3419 : Index := Scalar.indexCast v3411
  let c0_1434 : Index := 0#32
  ![v3419.toNat, 0]

def k0_chk456 (i : grid0.Coords) (v13 : BitVec 32) (v3409 : BitVec 32) : Prop :=
  (∀ (k0_h5 : k0_cond5 i v13 = 1#1), 8 ∣ (k0_mult453 v3409).toNat) ∧
  (∀ (k0_h5 : k0_cond5 i v13 = 1#1), ∀ a, (k0_off1123 v3409) a + S8x128.size a ≤ S65536x128.size a) ∧
  (∀ (k0_h5 : k0_cond5 i v13 = 1#1), ∀ a, (k0_off1124 v3409) a + S1x128.size a ≤ S8192x128.size a)
theorem k0_mult453_dvd : ∀ (i : grid0.Coords) (v13 : BitVec 32) (v3409 : BitVec 32) (k0_hw456 : k0_chk456 i v13 v3409), ∀ (k0_h5 : k0_cond5 i v13 = 1#1), 8 ∣ (k0_mult453 v3409).toNat := fun i v13 v3409 k0_hw456 k0_h5 => k0_hw456.1 k0_h5
theorem k0_off1123_inb : ∀ (i : grid0.Coords) (v13 : BitVec 32) (v3409 : BitVec 32) (k0_hw456 : k0_chk456 i v13 v3409), ∀ (k0_h5 : k0_cond5 i v13 = 1#1), ∀ a, (k0_off1123 v3409) a + S8x128.size a ≤ S65536x128.size a := fun i v13 v3409 k0_hw456 k0_h5 => k0_hw456.2.1 k0_h5
theorem k0_off1124_inb : ∀ (i : grid0.Coords) (v13 : BitVec 32) (v3409 : BitVec 32) (k0_hw456 : k0_chk456 i v13 v3409), ∀ (k0_h5 : k0_cond5 i v13 = 1#1), ∀ a, (k0_off1124 v3409) a + S1x128.size a ≤ S8192x128.size a := fun i v13 v3409 k0_hw456 k0_h5 => k0_hw456.2.2 k0_h5

def k0_off1125 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c197_i32 : BitVec 32 := 197#32
  let v3424 : BitVec 32 := Scalar.addi v74 c197_i32
  let v3425 : Index := Scalar.indexCast v3424
  ![v3425.toNat]
def k0_mult454 (v3426 : BitVec 32) : BitVec 32 :=
  let c3_i32_1436 : BitVec 32 := 3#32
  let v3427 : BitVec 32 := Scalar.shrsi v3426 c3_i32_1436
  let c8191_i32_1437 : BitVec 32 := 8191#32
  let v3428 : BitVec 32 := Scalar.andi v3427 c8191_i32_1437
  let c8_i32_1438 : BitVec 32 := 8#32
  let v3429 : BitVec 32 := Scalar.muli v3428 c8_i32_1438
  v3429

def k0_off1126 (v3426 : BitVec 32) : Fin 2 → Nat :=
  let c3_i32_1436 : BitVec 32 := 3#32
  let v3427 : BitVec 32 := Scalar.shrsi v3426 c3_i32_1436
  let c8191_i32_1437 : BitVec 32 := 8191#32
  let v3428 : BitVec 32 := Scalar.andi v3427 c8191_i32_1437
  let c8_i32_1438 : BitVec 32 := 8#32
  let v3429 : BitVec 32 := Scalar.muli v3428 c8_i32_1438
  let v3430 : BitVec 32 := v3429
  let v3431 : Index := Scalar.indexCast v3430
  let c0_1439 : Index := 0#32
  ![v3431.toNat, 0]
def k0_off1127 (v3426 : BitVec 32) : Fin 2 → Nat :=
  let c3_i32_1436 : BitVec 32 := 3#32
  let v3427 : BitVec 32 := Scalar.shrsi v3426 c3_i32_1436
  let c8191_i32_1437 : BitVec 32 := 8191#32
  let v3428 : BitVec 32 := Scalar.andi v3427 c8191_i32_1437
  let v3436 : Index := Scalar.indexCast v3428
  let c0_1441 : Index := 0#32
  ![v3436.toNat, 0]

def k0_chk457 (i : grid0.Coords) (v13 : BitVec 32) (v3426 : BitVec 32) : Prop :=
  (∀ (k0_h5 : k0_cond5 i v13 = 1#1), 8 ∣ (k0_mult454 v3426).toNat) ∧
  (∀ (k0_h5 : k0_cond5 i v13 = 1#1), ∀ a, (k0_off1126 v3426) a + S8x128.size a ≤ S65536x128.size a) ∧
  (∀ (k0_h5 : k0_cond5 i v13 = 1#1), ∀ a, (k0_off1127 v3426) a + S1x128.size a ≤ S8192x128.size a)
theorem k0_mult454_dvd : ∀ (i : grid0.Coords) (v13 : BitVec 32) (v3426 : BitVec 32) (k0_hw457 : k0_chk457 i v13 v3426), ∀ (k0_h5 : k0_cond5 i v13 = 1#1), 8 ∣ (k0_mult454 v3426).toNat := fun i v13 v3426 k0_hw457 k0_h5 => k0_hw457.1 k0_h5
theorem k0_off1126_inb : ∀ (i : grid0.Coords) (v13 : BitVec 32) (v3426 : BitVec 32) (k0_hw457 : k0_chk457 i v13 v3426), ∀ (k0_h5 : k0_cond5 i v13 = 1#1), ∀ a, (k0_off1126 v3426) a + S8x128.size a ≤ S65536x128.size a := fun i v13 v3426 k0_hw457 k0_h5 => k0_hw457.2.1 k0_h5
theorem k0_off1127_inb : ∀ (i : grid0.Coords) (v13 : BitVec 32) (v3426 : BitVec 32) (k0_hw457 : k0_chk457 i v13 v3426), ∀ (k0_h5 : k0_cond5 i v13 = 1#1), ∀ a, (k0_off1127 v3426) a + S1x128.size a ≤ S8192x128.size a := fun i v13 v3426 k0_hw457 k0_h5 => k0_hw457.2.2 k0_h5

def k0_off1128 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c198_i32 : BitVec 32 := 198#32
  let v3441 : BitVec 32 := Scalar.addi v74 c198_i32
  let v3442 : Index := Scalar.indexCast v3441
  ![v3442.toNat]
def k0_mult455 (v3443 : BitVec 32) : BitVec 32 :=
  let c3_i32_1443 : BitVec 32 := 3#32
  let v3444 : BitVec 32 := Scalar.shrsi v3443 c3_i32_1443
  let c8191_i32_1444 : BitVec 32 := 8191#32
  let v3445 : BitVec 32 := Scalar.andi v3444 c8191_i32_1444
  let c8_i32_1445 : BitVec 32 := 8#32
  let v3446 : BitVec 32 := Scalar.muli v3445 c8_i32_1445
  v3446

def k0_off1129 (v3443 : BitVec 32) : Fin 2 → Nat :=
  let c3_i32_1443 : BitVec 32 := 3#32
  let v3444 : BitVec 32 := Scalar.shrsi v3443 c3_i32_1443
  let c8191_i32_1444 : BitVec 32 := 8191#32
  let v3445 : BitVec 32 := Scalar.andi v3444 c8191_i32_1444
  let c8_i32_1445 : BitVec 32 := 8#32
  let v3446 : BitVec 32 := Scalar.muli v3445 c8_i32_1445
  let v3447 : BitVec 32 := v3446
  let v3448 : Index := Scalar.indexCast v3447
  let c0_1446 : Index := 0#32
  ![v3448.toNat, 0]
def k0_off1130 (v3443 : BitVec 32) : Fin 2 → Nat :=
  let c3_i32_1443 : BitVec 32 := 3#32
  let v3444 : BitVec 32 := Scalar.shrsi v3443 c3_i32_1443
  let c8191_i32_1444 : BitVec 32 := 8191#32
  let v3445 : BitVec 32 := Scalar.andi v3444 c8191_i32_1444
  let v3453 : Index := Scalar.indexCast v3445
  let c0_1448 : Index := 0#32
  ![v3453.toNat, 0]

def k0_chk458 (i : grid0.Coords) (v13 : BitVec 32) (v3443 : BitVec 32) : Prop :=
  (∀ (k0_h5 : k0_cond5 i v13 = 1#1), 8 ∣ (k0_mult455 v3443).toNat) ∧
  (∀ (k0_h5 : k0_cond5 i v13 = 1#1), ∀ a, (k0_off1129 v3443) a + S8x128.size a ≤ S65536x128.size a) ∧
  (∀ (k0_h5 : k0_cond5 i v13 = 1#1), ∀ a, (k0_off1130 v3443) a + S1x128.size a ≤ S8192x128.size a)
theorem k0_mult455_dvd : ∀ (i : grid0.Coords) (v13 : BitVec 32) (v3443 : BitVec 32) (k0_hw458 : k0_chk458 i v13 v3443), ∀ (k0_h5 : k0_cond5 i v13 = 1#1), 8 ∣ (k0_mult455 v3443).toNat := fun i v13 v3443 k0_hw458 k0_h5 => k0_hw458.1 k0_h5
theorem k0_off1129_inb : ∀ (i : grid0.Coords) (v13 : BitVec 32) (v3443 : BitVec 32) (k0_hw458 : k0_chk458 i v13 v3443), ∀ (k0_h5 : k0_cond5 i v13 = 1#1), ∀ a, (k0_off1129 v3443) a + S8x128.size a ≤ S65536x128.size a := fun i v13 v3443 k0_hw458 k0_h5 => k0_hw458.2.1 k0_h5
theorem k0_off1130_inb : ∀ (i : grid0.Coords) (v13 : BitVec 32) (v3443 : BitVec 32) (k0_hw458 : k0_chk458 i v13 v3443), ∀ (k0_h5 : k0_cond5 i v13 = 1#1), ∀ a, (k0_off1130 v3443) a + S1x128.size a ≤ S8192x128.size a := fun i v13 v3443 k0_hw458 k0_h5 => k0_hw458.2.2 k0_h5

def k0_off1131 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c199_i32 : BitVec 32 := 199#32
  let v3458 : BitVec 32 := Scalar.addi v74 c199_i32
  let v3459 : Index := Scalar.indexCast v3458
  ![v3459.toNat]
def k0_mult456 (v3460 : BitVec 32) : BitVec 32 :=
  let c3_i32_1450 : BitVec 32 := 3#32
  let v3461 : BitVec 32 := Scalar.shrsi v3460 c3_i32_1450
  let c8191_i32_1451 : BitVec 32 := 8191#32
  let v3462 : BitVec 32 := Scalar.andi v3461 c8191_i32_1451
  let c8_i32_1452 : BitVec 32 := 8#32
  let v3463 : BitVec 32 := Scalar.muli v3462 c8_i32_1452
  v3463

def k0_off1132 (v3460 : BitVec 32) : Fin 2 → Nat :=
  let c3_i32_1450 : BitVec 32 := 3#32
  let v3461 : BitVec 32 := Scalar.shrsi v3460 c3_i32_1450
  let c8191_i32_1451 : BitVec 32 := 8191#32
  let v3462 : BitVec 32 := Scalar.andi v3461 c8191_i32_1451
  let c8_i32_1452 : BitVec 32 := 8#32
  let v3463 : BitVec 32 := Scalar.muli v3462 c8_i32_1452
  let v3464 : BitVec 32 := v3463
  let v3465 : Index := Scalar.indexCast v3464
  let c0_1453 : Index := 0#32
  ![v3465.toNat, 0]
def k0_off1133 (v3460 : BitVec 32) : Fin 2 → Nat :=
  let c3_i32_1450 : BitVec 32 := 3#32
  let v3461 : BitVec 32 := Scalar.shrsi v3460 c3_i32_1450
  let c8191_i32_1451 : BitVec 32 := 8191#32
  let v3462 : BitVec 32 := Scalar.andi v3461 c8191_i32_1451
  let v3470 : Index := Scalar.indexCast v3462
  let c0_1455 : Index := 0#32
  ![v3470.toNat, 0]

def k0_chk459 (i : grid0.Coords) (v13 : BitVec 32) (v3460 : BitVec 32) : Prop :=
  (∀ (k0_h5 : k0_cond5 i v13 = 1#1), 8 ∣ (k0_mult456 v3460).toNat) ∧
  (∀ (k0_h5 : k0_cond5 i v13 = 1#1), ∀ a, (k0_off1132 v3460) a + S8x128.size a ≤ S65536x128.size a) ∧
  (∀ (k0_h5 : k0_cond5 i v13 = 1#1), ∀ a, (k0_off1133 v3460) a + S1x128.size a ≤ S8192x128.size a)
theorem k0_mult456_dvd : ∀ (i : grid0.Coords) (v13 : BitVec 32) (v3460 : BitVec 32) (k0_hw459 : k0_chk459 i v13 v3460), ∀ (k0_h5 : k0_cond5 i v13 = 1#1), 8 ∣ (k0_mult456 v3460).toNat := fun i v13 v3460 k0_hw459 k0_h5 => k0_hw459.1 k0_h5
theorem k0_off1132_inb : ∀ (i : grid0.Coords) (v13 : BitVec 32) (v3460 : BitVec 32) (k0_hw459 : k0_chk459 i v13 v3460), ∀ (k0_h5 : k0_cond5 i v13 = 1#1), ∀ a, (k0_off1132 v3460) a + S8x128.size a ≤ S65536x128.size a := fun i v13 v3460 k0_hw459 k0_h5 => k0_hw459.2.1 k0_h5
theorem k0_off1133_inb : ∀ (i : grid0.Coords) (v13 : BitVec 32) (v3460 : BitVec 32) (k0_hw459 : k0_chk459 i v13 v3460), ∀ (k0_h5 : k0_cond5 i v13 = 1#1), ∀ a, (k0_off1133 v3460) a + S1x128.size a ≤ S8192x128.size a := fun i v13 v3460 k0_hw459 k0_h5 => k0_hw459.2.2 k0_h5

def k0_off1134 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c200_i32 : BitVec 32 := 200#32
  let v3475 : BitVec 32 := Scalar.addi v74 c200_i32
  let v3476 : Index := Scalar.indexCast v3475
  ![v3476.toNat]
def k0_mult457 (v3477 : BitVec 32) : BitVec 32 :=
  let c3_i32_1457 : BitVec 32 := 3#32
  let v3478 : BitVec 32 := Scalar.shrsi v3477 c3_i32_1457
  let c8191_i32_1458 : BitVec 32 := 8191#32
  let v3479 : BitVec 32 := Scalar.andi v3478 c8191_i32_1458
  let c8_i32_1459 : BitVec 32 := 8#32
  let v3480 : BitVec 32 := Scalar.muli v3479 c8_i32_1459
  v3480

def k0_off1135 (v3477 : BitVec 32) : Fin 2 → Nat :=
  let c3_i32_1457 : BitVec 32 := 3#32
  let v3478 : BitVec 32 := Scalar.shrsi v3477 c3_i32_1457
  let c8191_i32_1458 : BitVec 32 := 8191#32
  let v3479 : BitVec 32 := Scalar.andi v3478 c8191_i32_1458
  let c8_i32_1459 : BitVec 32 := 8#32
  let v3480 : BitVec 32 := Scalar.muli v3479 c8_i32_1459
  let v3481 : BitVec 32 := v3480
  let v3482 : Index := Scalar.indexCast v3481
  let c0_1460 : Index := 0#32
  ![v3482.toNat, 0]
def k0_off1136 (v3477 : BitVec 32) : Fin 2 → Nat :=
  let c3_i32_1457 : BitVec 32 := 3#32
  let v3478 : BitVec 32 := Scalar.shrsi v3477 c3_i32_1457
  let c8191_i32_1458 : BitVec 32 := 8191#32
  let v3479 : BitVec 32 := Scalar.andi v3478 c8191_i32_1458
  let v3487 : Index := Scalar.indexCast v3479
  let c0_1462 : Index := 0#32
  ![v3487.toNat, 0]

def k0_chk460 (i : grid0.Coords) (v13 : BitVec 32) (v3477 : BitVec 32) : Prop :=
  (∀ (k0_h5 : k0_cond5 i v13 = 1#1), 8 ∣ (k0_mult457 v3477).toNat) ∧
  (∀ (k0_h5 : k0_cond5 i v13 = 1#1), ∀ a, (k0_off1135 v3477) a + S8x128.size a ≤ S65536x128.size a) ∧
  (∀ (k0_h5 : k0_cond5 i v13 = 1#1), ∀ a, (k0_off1136 v3477) a + S1x128.size a ≤ S8192x128.size a)
theorem k0_mult457_dvd : ∀ (i : grid0.Coords) (v13 : BitVec 32) (v3477 : BitVec 32) (k0_hw460 : k0_chk460 i v13 v3477), ∀ (k0_h5 : k0_cond5 i v13 = 1#1), 8 ∣ (k0_mult457 v3477).toNat := fun i v13 v3477 k0_hw460 k0_h5 => k0_hw460.1 k0_h5
theorem k0_off1135_inb : ∀ (i : grid0.Coords) (v13 : BitVec 32) (v3477 : BitVec 32) (k0_hw460 : k0_chk460 i v13 v3477), ∀ (k0_h5 : k0_cond5 i v13 = 1#1), ∀ a, (k0_off1135 v3477) a + S8x128.size a ≤ S65536x128.size a := fun i v13 v3477 k0_hw460 k0_h5 => k0_hw460.2.1 k0_h5
theorem k0_off1136_inb : ∀ (i : grid0.Coords) (v13 : BitVec 32) (v3477 : BitVec 32) (k0_hw460 : k0_chk460 i v13 v3477), ∀ (k0_h5 : k0_cond5 i v13 = 1#1), ∀ a, (k0_off1136 v3477) a + S1x128.size a ≤ S8192x128.size a := fun i v13 v3477 k0_hw460 k0_h5 => k0_hw460.2.2 k0_h5

def k0_off1137 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c201_i32 : BitVec 32 := 201#32
  let v3492 : BitVec 32 := Scalar.addi v74 c201_i32
  let v3493 : Index := Scalar.indexCast v3492
  ![v3493.toNat]
def k0_mult458 (v3494 : BitVec 32) : BitVec 32 :=
  let c3_i32_1465 : BitVec 32 := 3#32
  let v3495 : BitVec 32 := Scalar.shrsi v3494 c3_i32_1465
  let c8191_i32_1466 : BitVec 32 := 8191#32
  let v3496 : BitVec 32 := Scalar.andi v3495 c8191_i32_1466
  let c8_i32_1467 : BitVec 32 := 8#32
  let v3497 : BitVec 32 := Scalar.muli v3496 c8_i32_1467
  v3497

def k0_off1138 (v3494 : BitVec 32) : Fin 2 → Nat :=
  let c3_i32_1465 : BitVec 32 := 3#32
  let v3495 : BitVec 32 := Scalar.shrsi v3494 c3_i32_1465
  let c8191_i32_1466 : BitVec 32 := 8191#32
  let v3496 : BitVec 32 := Scalar.andi v3495 c8191_i32_1466
  let c8_i32_1467 : BitVec 32 := 8#32
  let v3497 : BitVec 32 := Scalar.muli v3496 c8_i32_1467
  let v3498 : BitVec 32 := v3497
  let v3499 : Index := Scalar.indexCast v3498
  let c0_1468 : Index := 0#32
  ![v3499.toNat, 0]
def k0_off1139 (v3494 : BitVec 32) : Fin 2 → Nat :=
  let c3_i32_1465 : BitVec 32 := 3#32
  let v3495 : BitVec 32 := Scalar.shrsi v3494 c3_i32_1465
  let c8191_i32_1466 : BitVec 32 := 8191#32
  let v3496 : BitVec 32 := Scalar.andi v3495 c8191_i32_1466
  let v3504 : Index := Scalar.indexCast v3496
  let c0_1470 : Index := 0#32
  ![v3504.toNat, 0]

def k0_chk461 (i : grid0.Coords) (v13 : BitVec 32) (v3494 : BitVec 32) : Prop :=
  (∀ (k0_h5 : k0_cond5 i v13 = 1#1), 8 ∣ (k0_mult458 v3494).toNat) ∧
  (∀ (k0_h5 : k0_cond5 i v13 = 1#1), ∀ a, (k0_off1138 v3494) a + S8x128.size a ≤ S65536x128.size a) ∧
  (∀ (k0_h5 : k0_cond5 i v13 = 1#1), ∀ a, (k0_off1139 v3494) a + S1x128.size a ≤ S8192x128.size a)
theorem k0_mult458_dvd : ∀ (i : grid0.Coords) (v13 : BitVec 32) (v3494 : BitVec 32) (k0_hw461 : k0_chk461 i v13 v3494), ∀ (k0_h5 : k0_cond5 i v13 = 1#1), 8 ∣ (k0_mult458 v3494).toNat := fun i v13 v3494 k0_hw461 k0_h5 => k0_hw461.1 k0_h5
theorem k0_off1138_inb : ∀ (i : grid0.Coords) (v13 : BitVec 32) (v3494 : BitVec 32) (k0_hw461 : k0_chk461 i v13 v3494), ∀ (k0_h5 : k0_cond5 i v13 = 1#1), ∀ a, (k0_off1138 v3494) a + S8x128.size a ≤ S65536x128.size a := fun i v13 v3494 k0_hw461 k0_h5 => k0_hw461.2.1 k0_h5
theorem k0_off1139_inb : ∀ (i : grid0.Coords) (v13 : BitVec 32) (v3494 : BitVec 32) (k0_hw461 : k0_chk461 i v13 v3494), ∀ (k0_h5 : k0_cond5 i v13 = 1#1), ∀ a, (k0_off1139 v3494) a + S1x128.size a ≤ S8192x128.size a := fun i v13 v3494 k0_hw461 k0_h5 => k0_hw461.2.2 k0_h5

def k0_off1140 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c202_i32 : BitVec 32 := 202#32
  let v3509 : BitVec 32 := Scalar.addi v74 c202_i32
  let v3510 : Index := Scalar.indexCast v3509
  ![v3510.toNat]
def k0_mult459 (v3511 : BitVec 32) : BitVec 32 :=
  let c3_i32_1472 : BitVec 32 := 3#32
  let v3512 : BitVec 32 := Scalar.shrsi v3511 c3_i32_1472
  let c8191_i32_1473 : BitVec 32 := 8191#32
  let v3513 : BitVec 32 := Scalar.andi v3512 c8191_i32_1473
  let c8_i32_1474 : BitVec 32 := 8#32
  let v3514 : BitVec 32 := Scalar.muli v3513 c8_i32_1474
  v3514

def k0_off1141 (v3511 : BitVec 32) : Fin 2 → Nat :=
  let c3_i32_1472 : BitVec 32 := 3#32
  let v3512 : BitVec 32 := Scalar.shrsi v3511 c3_i32_1472
  let c8191_i32_1473 : BitVec 32 := 8191#32
  let v3513 : BitVec 32 := Scalar.andi v3512 c8191_i32_1473
  let c8_i32_1474 : BitVec 32 := 8#32
  let v3514 : BitVec 32 := Scalar.muli v3513 c8_i32_1474
  let v3515 : BitVec 32 := v3514
  let v3516 : Index := Scalar.indexCast v3515
  let c0_1475 : Index := 0#32
  ![v3516.toNat, 0]
def k0_off1142 (v3511 : BitVec 32) : Fin 2 → Nat :=
  let c3_i32_1472 : BitVec 32 := 3#32
  let v3512 : BitVec 32 := Scalar.shrsi v3511 c3_i32_1472
  let c8191_i32_1473 : BitVec 32 := 8191#32
  let v3513 : BitVec 32 := Scalar.andi v3512 c8191_i32_1473
  let v3521 : Index := Scalar.indexCast v3513
  let c0_1477 : Index := 0#32
  ![v3521.toNat, 0]

def k0_chk462 (i : grid0.Coords) (v13 : BitVec 32) (v3511 : BitVec 32) : Prop :=
  (∀ (k0_h5 : k0_cond5 i v13 = 1#1), 8 ∣ (k0_mult459 v3511).toNat) ∧
  (∀ (k0_h5 : k0_cond5 i v13 = 1#1), ∀ a, (k0_off1141 v3511) a + S8x128.size a ≤ S65536x128.size a) ∧
  (∀ (k0_h5 : k0_cond5 i v13 = 1#1), ∀ a, (k0_off1142 v3511) a + S1x128.size a ≤ S8192x128.size a)
theorem k0_mult459_dvd : ∀ (i : grid0.Coords) (v13 : BitVec 32) (v3511 : BitVec 32) (k0_hw462 : k0_chk462 i v13 v3511), ∀ (k0_h5 : k0_cond5 i v13 = 1#1), 8 ∣ (k0_mult459 v3511).toNat := fun i v13 v3511 k0_hw462 k0_h5 => k0_hw462.1 k0_h5
theorem k0_off1141_inb : ∀ (i : grid0.Coords) (v13 : BitVec 32) (v3511 : BitVec 32) (k0_hw462 : k0_chk462 i v13 v3511), ∀ (k0_h5 : k0_cond5 i v13 = 1#1), ∀ a, (k0_off1141 v3511) a + S8x128.size a ≤ S65536x128.size a := fun i v13 v3511 k0_hw462 k0_h5 => k0_hw462.2.1 k0_h5
theorem k0_off1142_inb : ∀ (i : grid0.Coords) (v13 : BitVec 32) (v3511 : BitVec 32) (k0_hw462 : k0_chk462 i v13 v3511), ∀ (k0_h5 : k0_cond5 i v13 = 1#1), ∀ a, (k0_off1142 v3511) a + S1x128.size a ≤ S8192x128.size a := fun i v13 v3511 k0_hw462 k0_h5 => k0_hw462.2.2 k0_h5

def k0_off1143 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c203_i32 : BitVec 32 := 203#32
  let v3526 : BitVec 32 := Scalar.addi v74 c203_i32
  let v3527 : Index := Scalar.indexCast v3526
  ![v3527.toNat]
def k0_mult460 (v3528 : BitVec 32) : BitVec 32 :=
  let c3_i32_1479 : BitVec 32 := 3#32
  let v3529 : BitVec 32 := Scalar.shrsi v3528 c3_i32_1479
  let c8191_i32_1480 : BitVec 32 := 8191#32
  let v3530 : BitVec 32 := Scalar.andi v3529 c8191_i32_1480
  let c8_i32_1481 : BitVec 32 := 8#32
  let v3531 : BitVec 32 := Scalar.muli v3530 c8_i32_1481
  v3531

def k0_off1144 (v3528 : BitVec 32) : Fin 2 → Nat :=
  let c3_i32_1479 : BitVec 32 := 3#32
  let v3529 : BitVec 32 := Scalar.shrsi v3528 c3_i32_1479
  let c8191_i32_1480 : BitVec 32 := 8191#32
  let v3530 : BitVec 32 := Scalar.andi v3529 c8191_i32_1480
  let c8_i32_1481 : BitVec 32 := 8#32
  let v3531 : BitVec 32 := Scalar.muli v3530 c8_i32_1481
  let v3532 : BitVec 32 := v3531
  let v3533 : Index := Scalar.indexCast v3532
  let c0_1482 : Index := 0#32
  ![v3533.toNat, 0]
def k0_off1145 (v3528 : BitVec 32) : Fin 2 → Nat :=
  let c3_i32_1479 : BitVec 32 := 3#32
  let v3529 : BitVec 32 := Scalar.shrsi v3528 c3_i32_1479
  let c8191_i32_1480 : BitVec 32 := 8191#32
  let v3530 : BitVec 32 := Scalar.andi v3529 c8191_i32_1480
  let v3538 : Index := Scalar.indexCast v3530
  let c0_1484 : Index := 0#32
  ![v3538.toNat, 0]

def k0_chk463 (i : grid0.Coords) (v13 : BitVec 32) (v3528 : BitVec 32) : Prop :=
  (∀ (k0_h5 : k0_cond5 i v13 = 1#1), 8 ∣ (k0_mult460 v3528).toNat) ∧
  (∀ (k0_h5 : k0_cond5 i v13 = 1#1), ∀ a, (k0_off1144 v3528) a + S8x128.size a ≤ S65536x128.size a) ∧
  (∀ (k0_h5 : k0_cond5 i v13 = 1#1), ∀ a, (k0_off1145 v3528) a + S1x128.size a ≤ S8192x128.size a)
theorem k0_mult460_dvd : ∀ (i : grid0.Coords) (v13 : BitVec 32) (v3528 : BitVec 32) (k0_hw463 : k0_chk463 i v13 v3528), ∀ (k0_h5 : k0_cond5 i v13 = 1#1), 8 ∣ (k0_mult460 v3528).toNat := fun i v13 v3528 k0_hw463 k0_h5 => k0_hw463.1 k0_h5
theorem k0_off1144_inb : ∀ (i : grid0.Coords) (v13 : BitVec 32) (v3528 : BitVec 32) (k0_hw463 : k0_chk463 i v13 v3528), ∀ (k0_h5 : k0_cond5 i v13 = 1#1), ∀ a, (k0_off1144 v3528) a + S8x128.size a ≤ S65536x128.size a := fun i v13 v3528 k0_hw463 k0_h5 => k0_hw463.2.1 k0_h5
theorem k0_off1145_inb : ∀ (i : grid0.Coords) (v13 : BitVec 32) (v3528 : BitVec 32) (k0_hw463 : k0_chk463 i v13 v3528), ∀ (k0_h5 : k0_cond5 i v13 = 1#1), ∀ a, (k0_off1145 v3528) a + S1x128.size a ≤ S8192x128.size a := fun i v13 v3528 k0_hw463 k0_h5 => k0_hw463.2.2 k0_h5

def k0_off1146 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c204_i32 : BitVec 32 := 204#32
  let v3543 : BitVec 32 := Scalar.addi v74 c204_i32
  let v3544 : Index := Scalar.indexCast v3543
  ![v3544.toNat]
def k0_mult461 (v3545 : BitVec 32) : BitVec 32 :=
  let c3_i32_1486 : BitVec 32 := 3#32
  let v3546 : BitVec 32 := Scalar.shrsi v3545 c3_i32_1486
  let c8191_i32_1487 : BitVec 32 := 8191#32
  let v3547 : BitVec 32 := Scalar.andi v3546 c8191_i32_1487
  let c8_i32_1488 : BitVec 32 := 8#32
  let v3548 : BitVec 32 := Scalar.muli v3547 c8_i32_1488
  v3548

def k0_off1147 (v3545 : BitVec 32) : Fin 2 → Nat :=
  let c3_i32_1486 : BitVec 32 := 3#32
  let v3546 : BitVec 32 := Scalar.shrsi v3545 c3_i32_1486
  let c8191_i32_1487 : BitVec 32 := 8191#32
  let v3547 : BitVec 32 := Scalar.andi v3546 c8191_i32_1487
  let c8_i32_1488 : BitVec 32 := 8#32
  let v3548 : BitVec 32 := Scalar.muli v3547 c8_i32_1488
  let v3549 : BitVec 32 := v3548
  let v3550 : Index := Scalar.indexCast v3549
  let c0_1489 : Index := 0#32
  ![v3550.toNat, 0]
def k0_off1148 (v3545 : BitVec 32) : Fin 2 → Nat :=
  let c3_i32_1486 : BitVec 32 := 3#32
  let v3546 : BitVec 32 := Scalar.shrsi v3545 c3_i32_1486
  let c8191_i32_1487 : BitVec 32 := 8191#32
  let v3547 : BitVec 32 := Scalar.andi v3546 c8191_i32_1487
  let v3555 : Index := Scalar.indexCast v3547
  let c0_1491 : Index := 0#32
  ![v3555.toNat, 0]

def k0_chk464 (i : grid0.Coords) (v13 : BitVec 32) (v3545 : BitVec 32) : Prop :=
  (∀ (k0_h5 : k0_cond5 i v13 = 1#1), 8 ∣ (k0_mult461 v3545).toNat) ∧
  (∀ (k0_h5 : k0_cond5 i v13 = 1#1), ∀ a, (k0_off1147 v3545) a + S8x128.size a ≤ S65536x128.size a) ∧
  (∀ (k0_h5 : k0_cond5 i v13 = 1#1), ∀ a, (k0_off1148 v3545) a + S1x128.size a ≤ S8192x128.size a)
theorem k0_mult461_dvd : ∀ (i : grid0.Coords) (v13 : BitVec 32) (v3545 : BitVec 32) (k0_hw464 : k0_chk464 i v13 v3545), ∀ (k0_h5 : k0_cond5 i v13 = 1#1), 8 ∣ (k0_mult461 v3545).toNat := fun i v13 v3545 k0_hw464 k0_h5 => k0_hw464.1 k0_h5
theorem k0_off1147_inb : ∀ (i : grid0.Coords) (v13 : BitVec 32) (v3545 : BitVec 32) (k0_hw464 : k0_chk464 i v13 v3545), ∀ (k0_h5 : k0_cond5 i v13 = 1#1), ∀ a, (k0_off1147 v3545) a + S8x128.size a ≤ S65536x128.size a := fun i v13 v3545 k0_hw464 k0_h5 => k0_hw464.2.1 k0_h5
theorem k0_off1148_inb : ∀ (i : grid0.Coords) (v13 : BitVec 32) (v3545 : BitVec 32) (k0_hw464 : k0_chk464 i v13 v3545), ∀ (k0_h5 : k0_cond5 i v13 = 1#1), ∀ a, (k0_off1148 v3545) a + S1x128.size a ≤ S8192x128.size a := fun i v13 v3545 k0_hw464 k0_h5 => k0_hw464.2.2 k0_h5

def k0_off1149 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c205_i32 : BitVec 32 := 205#32
  let v3560 : BitVec 32 := Scalar.addi v74 c205_i32
  let v3561 : Index := Scalar.indexCast v3560
  ![v3561.toNat]
def k0_mult462 (v3562 : BitVec 32) : BitVec 32 :=
  let c3_i32_1493 : BitVec 32 := 3#32
  let v3563 : BitVec 32 := Scalar.shrsi v3562 c3_i32_1493
  let c8191_i32_1494 : BitVec 32 := 8191#32
  let v3564 : BitVec 32 := Scalar.andi v3563 c8191_i32_1494
  let c8_i32_1495 : BitVec 32 := 8#32
  let v3565 : BitVec 32 := Scalar.muli v3564 c8_i32_1495
  v3565

def k0_off1150 (v3562 : BitVec 32) : Fin 2 → Nat :=
  let c3_i32_1493 : BitVec 32 := 3#32
  let v3563 : BitVec 32 := Scalar.shrsi v3562 c3_i32_1493
  let c8191_i32_1494 : BitVec 32 := 8191#32
  let v3564 : BitVec 32 := Scalar.andi v3563 c8191_i32_1494
  let c8_i32_1495 : BitVec 32 := 8#32
  let v3565 : BitVec 32 := Scalar.muli v3564 c8_i32_1495
  let v3566 : BitVec 32 := v3565
  let v3567 : Index := Scalar.indexCast v3566
  let c0_1496 : Index := 0#32
  ![v3567.toNat, 0]
def k0_off1151 (v3562 : BitVec 32) : Fin 2 → Nat :=
  let c3_i32_1493 : BitVec 32 := 3#32
  let v3563 : BitVec 32 := Scalar.shrsi v3562 c3_i32_1493
  let c8191_i32_1494 : BitVec 32 := 8191#32
  let v3564 : BitVec 32 := Scalar.andi v3563 c8191_i32_1494
  let v3572 : Index := Scalar.indexCast v3564
  let c0_1498 : Index := 0#32
  ![v3572.toNat, 0]

def k0_chk465 (i : grid0.Coords) (v13 : BitVec 32) (v3562 : BitVec 32) : Prop :=
  (∀ (k0_h5 : k0_cond5 i v13 = 1#1), 8 ∣ (k0_mult462 v3562).toNat) ∧
  (∀ (k0_h5 : k0_cond5 i v13 = 1#1), ∀ a, (k0_off1150 v3562) a + S8x128.size a ≤ S65536x128.size a) ∧
  (∀ (k0_h5 : k0_cond5 i v13 = 1#1), ∀ a, (k0_off1151 v3562) a + S1x128.size a ≤ S8192x128.size a)
theorem k0_mult462_dvd : ∀ (i : grid0.Coords) (v13 : BitVec 32) (v3562 : BitVec 32) (k0_hw465 : k0_chk465 i v13 v3562), ∀ (k0_h5 : k0_cond5 i v13 = 1#1), 8 ∣ (k0_mult462 v3562).toNat := fun i v13 v3562 k0_hw465 k0_h5 => k0_hw465.1 k0_h5
theorem k0_off1150_inb : ∀ (i : grid0.Coords) (v13 : BitVec 32) (v3562 : BitVec 32) (k0_hw465 : k0_chk465 i v13 v3562), ∀ (k0_h5 : k0_cond5 i v13 = 1#1), ∀ a, (k0_off1150 v3562) a + S8x128.size a ≤ S65536x128.size a := fun i v13 v3562 k0_hw465 k0_h5 => k0_hw465.2.1 k0_h5
theorem k0_off1151_inb : ∀ (i : grid0.Coords) (v13 : BitVec 32) (v3562 : BitVec 32) (k0_hw465 : k0_chk465 i v13 v3562), ∀ (k0_h5 : k0_cond5 i v13 = 1#1), ∀ a, (k0_off1151 v3562) a + S1x128.size a ≤ S8192x128.size a := fun i v13 v3562 k0_hw465 k0_h5 => k0_hw465.2.2 k0_h5

def k0_off1152 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c206_i32 : BitVec 32 := 206#32
  let v3577 : BitVec 32 := Scalar.addi v74 c206_i32
  let v3578 : Index := Scalar.indexCast v3577
  ![v3578.toNat]
def k0_mult463 (v3579 : BitVec 32) : BitVec 32 :=
  let c3_i32_1500 : BitVec 32 := 3#32
  let v3580 : BitVec 32 := Scalar.shrsi v3579 c3_i32_1500
  let c8191_i32_1501 : BitVec 32 := 8191#32
  let v3581 : BitVec 32 := Scalar.andi v3580 c8191_i32_1501
  let c8_i32_1502 : BitVec 32 := 8#32
  let v3582 : BitVec 32 := Scalar.muli v3581 c8_i32_1502
  v3582

def k0_off1153 (v3579 : BitVec 32) : Fin 2 → Nat :=
  let c3_i32_1500 : BitVec 32 := 3#32
  let v3580 : BitVec 32 := Scalar.shrsi v3579 c3_i32_1500
  let c8191_i32_1501 : BitVec 32 := 8191#32
  let v3581 : BitVec 32 := Scalar.andi v3580 c8191_i32_1501
  let c8_i32_1502 : BitVec 32 := 8#32
  let v3582 : BitVec 32 := Scalar.muli v3581 c8_i32_1502
  let v3583 : BitVec 32 := v3582
  let v3584 : Index := Scalar.indexCast v3583
  let c0_1503 : Index := 0#32
  ![v3584.toNat, 0]
def k0_off1154 (v3579 : BitVec 32) : Fin 2 → Nat :=
  let c3_i32_1500 : BitVec 32 := 3#32
  let v3580 : BitVec 32 := Scalar.shrsi v3579 c3_i32_1500
  let c8191_i32_1501 : BitVec 32 := 8191#32
  let v3581 : BitVec 32 := Scalar.andi v3580 c8191_i32_1501
  let v3589 : Index := Scalar.indexCast v3581
  let c0_1505 : Index := 0#32
  ![v3589.toNat, 0]

def k0_chk466 (i : grid0.Coords) (v13 : BitVec 32) (v3579 : BitVec 32) : Prop :=
  (∀ (k0_h5 : k0_cond5 i v13 = 1#1), 8 ∣ (k0_mult463 v3579).toNat) ∧
  (∀ (k0_h5 : k0_cond5 i v13 = 1#1), ∀ a, (k0_off1153 v3579) a + S8x128.size a ≤ S65536x128.size a) ∧
  (∀ (k0_h5 : k0_cond5 i v13 = 1#1), ∀ a, (k0_off1154 v3579) a + S1x128.size a ≤ S8192x128.size a)
theorem k0_mult463_dvd : ∀ (i : grid0.Coords) (v13 : BitVec 32) (v3579 : BitVec 32) (k0_hw466 : k0_chk466 i v13 v3579), ∀ (k0_h5 : k0_cond5 i v13 = 1#1), 8 ∣ (k0_mult463 v3579).toNat := fun i v13 v3579 k0_hw466 k0_h5 => k0_hw466.1 k0_h5
theorem k0_off1153_inb : ∀ (i : grid0.Coords) (v13 : BitVec 32) (v3579 : BitVec 32) (k0_hw466 : k0_chk466 i v13 v3579), ∀ (k0_h5 : k0_cond5 i v13 = 1#1), ∀ a, (k0_off1153 v3579) a + S8x128.size a ≤ S65536x128.size a := fun i v13 v3579 k0_hw466 k0_h5 => k0_hw466.2.1 k0_h5
theorem k0_off1154_inb : ∀ (i : grid0.Coords) (v13 : BitVec 32) (v3579 : BitVec 32) (k0_hw466 : k0_chk466 i v13 v3579), ∀ (k0_h5 : k0_cond5 i v13 = 1#1), ∀ a, (k0_off1154 v3579) a + S1x128.size a ≤ S8192x128.size a := fun i v13 v3579 k0_hw466 k0_h5 => k0_hw466.2.2 k0_h5

def k0_off1155 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c207_i32 : BitVec 32 := 207#32
  let v3594 : BitVec 32 := Scalar.addi v74 c207_i32
  let v3595 : Index := Scalar.indexCast v3594
  ![v3595.toNat]
def k0_mult464 (v3596 : BitVec 32) : BitVec 32 :=
  let c3_i32_1507 : BitVec 32 := 3#32
  let v3597 : BitVec 32 := Scalar.shrsi v3596 c3_i32_1507
  let c8191_i32_1508 : BitVec 32 := 8191#32
  let v3598 : BitVec 32 := Scalar.andi v3597 c8191_i32_1508
  let c8_i32_1509 : BitVec 32 := 8#32
  let v3599 : BitVec 32 := Scalar.muli v3598 c8_i32_1509
  v3599

def k0_off1156 (v3596 : BitVec 32) : Fin 2 → Nat :=
  let c3_i32_1507 : BitVec 32 := 3#32
  let v3597 : BitVec 32 := Scalar.shrsi v3596 c3_i32_1507
  let c8191_i32_1508 : BitVec 32 := 8191#32
  let v3598 : BitVec 32 := Scalar.andi v3597 c8191_i32_1508
  let c8_i32_1509 : BitVec 32 := 8#32
  let v3599 : BitVec 32 := Scalar.muli v3598 c8_i32_1509
  let v3600 : BitVec 32 := v3599
  let v3601 : Index := Scalar.indexCast v3600
  let c0_1510 : Index := 0#32
  ![v3601.toNat, 0]
def k0_off1157 (v3596 : BitVec 32) : Fin 2 → Nat :=
  let c3_i32_1507 : BitVec 32 := 3#32
  let v3597 : BitVec 32 := Scalar.shrsi v3596 c3_i32_1507
  let c8191_i32_1508 : BitVec 32 := 8191#32
  let v3598 : BitVec 32 := Scalar.andi v3597 c8191_i32_1508
  let v3606 : Index := Scalar.indexCast v3598
  let c0_1512 : Index := 0#32
  ![v3606.toNat, 0]

def k0_chk467 (i : grid0.Coords) (v13 : BitVec 32) (v3596 : BitVec 32) : Prop :=
  (∀ (k0_h5 : k0_cond5 i v13 = 1#1), 8 ∣ (k0_mult464 v3596).toNat) ∧
  (∀ (k0_h5 : k0_cond5 i v13 = 1#1), ∀ a, (k0_off1156 v3596) a + S8x128.size a ≤ S65536x128.size a) ∧
  (∀ (k0_h5 : k0_cond5 i v13 = 1#1), ∀ a, (k0_off1157 v3596) a + S1x128.size a ≤ S8192x128.size a)
theorem k0_mult464_dvd : ∀ (i : grid0.Coords) (v13 : BitVec 32) (v3596 : BitVec 32) (k0_hw467 : k0_chk467 i v13 v3596), ∀ (k0_h5 : k0_cond5 i v13 = 1#1), 8 ∣ (k0_mult464 v3596).toNat := fun i v13 v3596 k0_hw467 k0_h5 => k0_hw467.1 k0_h5
theorem k0_off1156_inb : ∀ (i : grid0.Coords) (v13 : BitVec 32) (v3596 : BitVec 32) (k0_hw467 : k0_chk467 i v13 v3596), ∀ (k0_h5 : k0_cond5 i v13 = 1#1), ∀ a, (k0_off1156 v3596) a + S8x128.size a ≤ S65536x128.size a := fun i v13 v3596 k0_hw467 k0_h5 => k0_hw467.2.1 k0_h5
theorem k0_off1157_inb : ∀ (i : grid0.Coords) (v13 : BitVec 32) (v3596 : BitVec 32) (k0_hw467 : k0_chk467 i v13 v3596), ∀ (k0_h5 : k0_cond5 i v13 = 1#1), ∀ a, (k0_off1157 v3596) a + S1x128.size a ≤ S8192x128.size a := fun i v13 v3596 k0_hw467 k0_h5 => k0_hw467.2.2 k0_h5

def k0_off1158 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c208_i32 : BitVec 32 := 208#32
  let v3611 : BitVec 32 := Scalar.addi v74 c208_i32
  let v3612 : Index := Scalar.indexCast v3611
  ![v3612.toNat]
def k0_mult465 (v3613 : BitVec 32) : BitVec 32 :=
  let c3_i32_1514 : BitVec 32 := 3#32
  let v3614 : BitVec 32 := Scalar.shrsi v3613 c3_i32_1514
  let c8191_i32_1515 : BitVec 32 := 8191#32
  let v3615 : BitVec 32 := Scalar.andi v3614 c8191_i32_1515
  let c8_i32_1516 : BitVec 32 := 8#32
  let v3616 : BitVec 32 := Scalar.muli v3615 c8_i32_1516
  v3616

def k0_off1159 (v3613 : BitVec 32) : Fin 2 → Nat :=
  let c3_i32_1514 : BitVec 32 := 3#32
  let v3614 : BitVec 32 := Scalar.shrsi v3613 c3_i32_1514
  let c8191_i32_1515 : BitVec 32 := 8191#32
  let v3615 : BitVec 32 := Scalar.andi v3614 c8191_i32_1515
  let c8_i32_1516 : BitVec 32 := 8#32
  let v3616 : BitVec 32 := Scalar.muli v3615 c8_i32_1516
  let v3617 : BitVec 32 := v3616
  let v3618 : Index := Scalar.indexCast v3617
  let c0_1517 : Index := 0#32
  ![v3618.toNat, 0]
def k0_off1160 (v3613 : BitVec 32) : Fin 2 → Nat :=
  let c3_i32_1514 : BitVec 32 := 3#32
  let v3614 : BitVec 32 := Scalar.shrsi v3613 c3_i32_1514
  let c8191_i32_1515 : BitVec 32 := 8191#32
  let v3615 : BitVec 32 := Scalar.andi v3614 c8191_i32_1515
  let v3623 : Index := Scalar.indexCast v3615
  let c0_1519 : Index := 0#32
  ![v3623.toNat, 0]

def k0_chk468 (i : grid0.Coords) (v13 : BitVec 32) (v3613 : BitVec 32) : Prop :=
  (∀ (k0_h5 : k0_cond5 i v13 = 1#1), 8 ∣ (k0_mult465 v3613).toNat) ∧
  (∀ (k0_h5 : k0_cond5 i v13 = 1#1), ∀ a, (k0_off1159 v3613) a + S8x128.size a ≤ S65536x128.size a) ∧
  (∀ (k0_h5 : k0_cond5 i v13 = 1#1), ∀ a, (k0_off1160 v3613) a + S1x128.size a ≤ S8192x128.size a)
theorem k0_mult465_dvd : ∀ (i : grid0.Coords) (v13 : BitVec 32) (v3613 : BitVec 32) (k0_hw468 : k0_chk468 i v13 v3613), ∀ (k0_h5 : k0_cond5 i v13 = 1#1), 8 ∣ (k0_mult465 v3613).toNat := fun i v13 v3613 k0_hw468 k0_h5 => k0_hw468.1 k0_h5
theorem k0_off1159_inb : ∀ (i : grid0.Coords) (v13 : BitVec 32) (v3613 : BitVec 32) (k0_hw468 : k0_chk468 i v13 v3613), ∀ (k0_h5 : k0_cond5 i v13 = 1#1), ∀ a, (k0_off1159 v3613) a + S8x128.size a ≤ S65536x128.size a := fun i v13 v3613 k0_hw468 k0_h5 => k0_hw468.2.1 k0_h5
theorem k0_off1160_inb : ∀ (i : grid0.Coords) (v13 : BitVec 32) (v3613 : BitVec 32) (k0_hw468 : k0_chk468 i v13 v3613), ∀ (k0_h5 : k0_cond5 i v13 = 1#1), ∀ a, (k0_off1160 v3613) a + S1x128.size a ≤ S8192x128.size a := fun i v13 v3613 k0_hw468 k0_h5 => k0_hw468.2.2 k0_h5

def k0_off1161 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c209_i32 : BitVec 32 := 209#32
  let v3628 : BitVec 32 := Scalar.addi v74 c209_i32
  let v3629 : Index := Scalar.indexCast v3628
  ![v3629.toNat]
def k0_mult466 (v3630 : BitVec 32) : BitVec 32 :=
  let c3_i32_1522 : BitVec 32 := 3#32
  let v3631 : BitVec 32 := Scalar.shrsi v3630 c3_i32_1522
  let c8191_i32_1523 : BitVec 32 := 8191#32
  let v3632 : BitVec 32 := Scalar.andi v3631 c8191_i32_1523
  let c8_i32_1524 : BitVec 32 := 8#32
  let v3633 : BitVec 32 := Scalar.muli v3632 c8_i32_1524
  v3633

def k0_off1162 (v3630 : BitVec 32) : Fin 2 → Nat :=
  let c3_i32_1522 : BitVec 32 := 3#32
  let v3631 : BitVec 32 := Scalar.shrsi v3630 c3_i32_1522
  let c8191_i32_1523 : BitVec 32 := 8191#32
  let v3632 : BitVec 32 := Scalar.andi v3631 c8191_i32_1523
  let c8_i32_1524 : BitVec 32 := 8#32
  let v3633 : BitVec 32 := Scalar.muli v3632 c8_i32_1524
  let v3634 : BitVec 32 := v3633
  let v3635 : Index := Scalar.indexCast v3634
  let c0_1525 : Index := 0#32
  ![v3635.toNat, 0]
def k0_off1163 (v3630 : BitVec 32) : Fin 2 → Nat :=
  let c3_i32_1522 : BitVec 32 := 3#32
  let v3631 : BitVec 32 := Scalar.shrsi v3630 c3_i32_1522
  let c8191_i32_1523 : BitVec 32 := 8191#32
  let v3632 : BitVec 32 := Scalar.andi v3631 c8191_i32_1523
  let v3640 : Index := Scalar.indexCast v3632
  let c0_1527 : Index := 0#32
  ![v3640.toNat, 0]

def k0_chk469 (i : grid0.Coords) (v13 : BitVec 32) (v3630 : BitVec 32) : Prop :=
  (∀ (k0_h5 : k0_cond5 i v13 = 1#1), 8 ∣ (k0_mult466 v3630).toNat) ∧
  (∀ (k0_h5 : k0_cond5 i v13 = 1#1), ∀ a, (k0_off1162 v3630) a + S8x128.size a ≤ S65536x128.size a) ∧
  (∀ (k0_h5 : k0_cond5 i v13 = 1#1), ∀ a, (k0_off1163 v3630) a + S1x128.size a ≤ S8192x128.size a)
theorem k0_mult466_dvd : ∀ (i : grid0.Coords) (v13 : BitVec 32) (v3630 : BitVec 32) (k0_hw469 : k0_chk469 i v13 v3630), ∀ (k0_h5 : k0_cond5 i v13 = 1#1), 8 ∣ (k0_mult466 v3630).toNat := fun i v13 v3630 k0_hw469 k0_h5 => k0_hw469.1 k0_h5
theorem k0_off1162_inb : ∀ (i : grid0.Coords) (v13 : BitVec 32) (v3630 : BitVec 32) (k0_hw469 : k0_chk469 i v13 v3630), ∀ (k0_h5 : k0_cond5 i v13 = 1#1), ∀ a, (k0_off1162 v3630) a + S8x128.size a ≤ S65536x128.size a := fun i v13 v3630 k0_hw469 k0_h5 => k0_hw469.2.1 k0_h5
theorem k0_off1163_inb : ∀ (i : grid0.Coords) (v13 : BitVec 32) (v3630 : BitVec 32) (k0_hw469 : k0_chk469 i v13 v3630), ∀ (k0_h5 : k0_cond5 i v13 = 1#1), ∀ a, (k0_off1163 v3630) a + S1x128.size a ≤ S8192x128.size a := fun i v13 v3630 k0_hw469 k0_h5 => k0_hw469.2.2 k0_h5

def k0_off1164 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c210_i32 : BitVec 32 := 210#32
  let v3645 : BitVec 32 := Scalar.addi v74 c210_i32
  let v3646 : Index := Scalar.indexCast v3645
  ![v3646.toNat]
def k0_mult467 (v3647 : BitVec 32) : BitVec 32 :=
  let c3_i32_1529 : BitVec 32 := 3#32
  let v3648 : BitVec 32 := Scalar.shrsi v3647 c3_i32_1529
  let c8191_i32_1530 : BitVec 32 := 8191#32
  let v3649 : BitVec 32 := Scalar.andi v3648 c8191_i32_1530
  let c8_i32_1531 : BitVec 32 := 8#32
  let v3650 : BitVec 32 := Scalar.muli v3649 c8_i32_1531
  v3650

def k0_off1165 (v3647 : BitVec 32) : Fin 2 → Nat :=
  let c3_i32_1529 : BitVec 32 := 3#32
  let v3648 : BitVec 32 := Scalar.shrsi v3647 c3_i32_1529
  let c8191_i32_1530 : BitVec 32 := 8191#32
  let v3649 : BitVec 32 := Scalar.andi v3648 c8191_i32_1530
  let c8_i32_1531 : BitVec 32 := 8#32
  let v3650 : BitVec 32 := Scalar.muli v3649 c8_i32_1531
  let v3651 : BitVec 32 := v3650
  let v3652 : Index := Scalar.indexCast v3651
  let c0_1532 : Index := 0#32
  ![v3652.toNat, 0]
def k0_off1166 (v3647 : BitVec 32) : Fin 2 → Nat :=
  let c3_i32_1529 : BitVec 32 := 3#32
  let v3648 : BitVec 32 := Scalar.shrsi v3647 c3_i32_1529
  let c8191_i32_1530 : BitVec 32 := 8191#32
  let v3649 : BitVec 32 := Scalar.andi v3648 c8191_i32_1530
  let v3657 : Index := Scalar.indexCast v3649
  let c0_1534 : Index := 0#32
  ![v3657.toNat, 0]

def k0_chk470 (i : grid0.Coords) (v13 : BitVec 32) (v3647 : BitVec 32) : Prop :=
  (∀ (k0_h5 : k0_cond5 i v13 = 1#1), 8 ∣ (k0_mult467 v3647).toNat) ∧
  (∀ (k0_h5 : k0_cond5 i v13 = 1#1), ∀ a, (k0_off1165 v3647) a + S8x128.size a ≤ S65536x128.size a) ∧
  (∀ (k0_h5 : k0_cond5 i v13 = 1#1), ∀ a, (k0_off1166 v3647) a + S1x128.size a ≤ S8192x128.size a)
theorem k0_mult467_dvd : ∀ (i : grid0.Coords) (v13 : BitVec 32) (v3647 : BitVec 32) (k0_hw470 : k0_chk470 i v13 v3647), ∀ (k0_h5 : k0_cond5 i v13 = 1#1), 8 ∣ (k0_mult467 v3647).toNat := fun i v13 v3647 k0_hw470 k0_h5 => k0_hw470.1 k0_h5
theorem k0_off1165_inb : ∀ (i : grid0.Coords) (v13 : BitVec 32) (v3647 : BitVec 32) (k0_hw470 : k0_chk470 i v13 v3647), ∀ (k0_h5 : k0_cond5 i v13 = 1#1), ∀ a, (k0_off1165 v3647) a + S8x128.size a ≤ S65536x128.size a := fun i v13 v3647 k0_hw470 k0_h5 => k0_hw470.2.1 k0_h5
theorem k0_off1166_inb : ∀ (i : grid0.Coords) (v13 : BitVec 32) (v3647 : BitVec 32) (k0_hw470 : k0_chk470 i v13 v3647), ∀ (k0_h5 : k0_cond5 i v13 = 1#1), ∀ a, (k0_off1166 v3647) a + S1x128.size a ≤ S8192x128.size a := fun i v13 v3647 k0_hw470 k0_h5 => k0_hw470.2.2 k0_h5

def k0_off1167 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c211_i32 : BitVec 32 := 211#32
  let v3662 : BitVec 32 := Scalar.addi v74 c211_i32
  let v3663 : Index := Scalar.indexCast v3662
  ![v3663.toNat]
def k0_mult468 (v3664 : BitVec 32) : BitVec 32 :=
  let c3_i32_1536 : BitVec 32 := 3#32
  let v3665 : BitVec 32 := Scalar.shrsi v3664 c3_i32_1536
  let c8191_i32_1537 : BitVec 32 := 8191#32
  let v3666 : BitVec 32 := Scalar.andi v3665 c8191_i32_1537
  let c8_i32_1538 : BitVec 32 := 8#32
  let v3667 : BitVec 32 := Scalar.muli v3666 c8_i32_1538
  v3667

def k0_off1168 (v3664 : BitVec 32) : Fin 2 → Nat :=
  let c3_i32_1536 : BitVec 32 := 3#32
  let v3665 : BitVec 32 := Scalar.shrsi v3664 c3_i32_1536
  let c8191_i32_1537 : BitVec 32 := 8191#32
  let v3666 : BitVec 32 := Scalar.andi v3665 c8191_i32_1537
  let c8_i32_1538 : BitVec 32 := 8#32
  let v3667 : BitVec 32 := Scalar.muli v3666 c8_i32_1538
  let v3668 : BitVec 32 := v3667
  let v3669 : Index := Scalar.indexCast v3668
  let c0_1539 : Index := 0#32
  ![v3669.toNat, 0]
def k0_off1169 (v3664 : BitVec 32) : Fin 2 → Nat :=
  let c3_i32_1536 : BitVec 32 := 3#32
  let v3665 : BitVec 32 := Scalar.shrsi v3664 c3_i32_1536
  let c8191_i32_1537 : BitVec 32 := 8191#32
  let v3666 : BitVec 32 := Scalar.andi v3665 c8191_i32_1537
  let v3674 : Index := Scalar.indexCast v3666
  let c0_1541 : Index := 0#32
  ![v3674.toNat, 0]

def k0_chk471 (i : grid0.Coords) (v13 : BitVec 32) (v3664 : BitVec 32) : Prop :=
  (∀ (k0_h5 : k0_cond5 i v13 = 1#1), 8 ∣ (k0_mult468 v3664).toNat) ∧
  (∀ (k0_h5 : k0_cond5 i v13 = 1#1), ∀ a, (k0_off1168 v3664) a + S8x128.size a ≤ S65536x128.size a) ∧
  (∀ (k0_h5 : k0_cond5 i v13 = 1#1), ∀ a, (k0_off1169 v3664) a + S1x128.size a ≤ S8192x128.size a)
theorem k0_mult468_dvd : ∀ (i : grid0.Coords) (v13 : BitVec 32) (v3664 : BitVec 32) (k0_hw471 : k0_chk471 i v13 v3664), ∀ (k0_h5 : k0_cond5 i v13 = 1#1), 8 ∣ (k0_mult468 v3664).toNat := fun i v13 v3664 k0_hw471 k0_h5 => k0_hw471.1 k0_h5
theorem k0_off1168_inb : ∀ (i : grid0.Coords) (v13 : BitVec 32) (v3664 : BitVec 32) (k0_hw471 : k0_chk471 i v13 v3664), ∀ (k0_h5 : k0_cond5 i v13 = 1#1), ∀ a, (k0_off1168 v3664) a + S8x128.size a ≤ S65536x128.size a := fun i v13 v3664 k0_hw471 k0_h5 => k0_hw471.2.1 k0_h5
theorem k0_off1169_inb : ∀ (i : grid0.Coords) (v13 : BitVec 32) (v3664 : BitVec 32) (k0_hw471 : k0_chk471 i v13 v3664), ∀ (k0_h5 : k0_cond5 i v13 = 1#1), ∀ a, (k0_off1169 v3664) a + S1x128.size a ≤ S8192x128.size a := fun i v13 v3664 k0_hw471 k0_h5 => k0_hw471.2.2 k0_h5

def k0_off1170 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c212_i32 : BitVec 32 := 212#32
  let v3679 : BitVec 32 := Scalar.addi v74 c212_i32
  let v3680 : Index := Scalar.indexCast v3679
  ![v3680.toNat]
def k0_mult469 (v3681 : BitVec 32) : BitVec 32 :=
  let c3_i32_1543 : BitVec 32 := 3#32
  let v3682 : BitVec 32 := Scalar.shrsi v3681 c3_i32_1543
  let c8191_i32_1544 : BitVec 32 := 8191#32
  let v3683 : BitVec 32 := Scalar.andi v3682 c8191_i32_1544
  let c8_i32_1545 : BitVec 32 := 8#32
  let v3684 : BitVec 32 := Scalar.muli v3683 c8_i32_1545
  v3684

def k0_off1171 (v3681 : BitVec 32) : Fin 2 → Nat :=
  let c3_i32_1543 : BitVec 32 := 3#32
  let v3682 : BitVec 32 := Scalar.shrsi v3681 c3_i32_1543
  let c8191_i32_1544 : BitVec 32 := 8191#32
  let v3683 : BitVec 32 := Scalar.andi v3682 c8191_i32_1544
  let c8_i32_1545 : BitVec 32 := 8#32
  let v3684 : BitVec 32 := Scalar.muli v3683 c8_i32_1545
  let v3685 : BitVec 32 := v3684
  let v3686 : Index := Scalar.indexCast v3685
  let c0_1546 : Index := 0#32
  ![v3686.toNat, 0]
def k0_off1172 (v3681 : BitVec 32) : Fin 2 → Nat :=
  let c3_i32_1543 : BitVec 32 := 3#32
  let v3682 : BitVec 32 := Scalar.shrsi v3681 c3_i32_1543
  let c8191_i32_1544 : BitVec 32 := 8191#32
  let v3683 : BitVec 32 := Scalar.andi v3682 c8191_i32_1544
  let v3691 : Index := Scalar.indexCast v3683
  let c0_1548 : Index := 0#32
  ![v3691.toNat, 0]

def k0_chk472 (i : grid0.Coords) (v13 : BitVec 32) (v3681 : BitVec 32) : Prop :=
  (∀ (k0_h5 : k0_cond5 i v13 = 1#1), 8 ∣ (k0_mult469 v3681).toNat) ∧
  (∀ (k0_h5 : k0_cond5 i v13 = 1#1), ∀ a, (k0_off1171 v3681) a + S8x128.size a ≤ S65536x128.size a) ∧
  (∀ (k0_h5 : k0_cond5 i v13 = 1#1), ∀ a, (k0_off1172 v3681) a + S1x128.size a ≤ S8192x128.size a)
theorem k0_mult469_dvd : ∀ (i : grid0.Coords) (v13 : BitVec 32) (v3681 : BitVec 32) (k0_hw472 : k0_chk472 i v13 v3681), ∀ (k0_h5 : k0_cond5 i v13 = 1#1), 8 ∣ (k0_mult469 v3681).toNat := fun i v13 v3681 k0_hw472 k0_h5 => k0_hw472.1 k0_h5
theorem k0_off1171_inb : ∀ (i : grid0.Coords) (v13 : BitVec 32) (v3681 : BitVec 32) (k0_hw472 : k0_chk472 i v13 v3681), ∀ (k0_h5 : k0_cond5 i v13 = 1#1), ∀ a, (k0_off1171 v3681) a + S8x128.size a ≤ S65536x128.size a := fun i v13 v3681 k0_hw472 k0_h5 => k0_hw472.2.1 k0_h5
theorem k0_off1172_inb : ∀ (i : grid0.Coords) (v13 : BitVec 32) (v3681 : BitVec 32) (k0_hw472 : k0_chk472 i v13 v3681), ∀ (k0_h5 : k0_cond5 i v13 = 1#1), ∀ a, (k0_off1172 v3681) a + S1x128.size a ≤ S8192x128.size a := fun i v13 v3681 k0_hw472 k0_h5 => k0_hw472.2.2 k0_h5

def k0_off1173 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c213_i32 : BitVec 32 := 213#32
  let v3696 : BitVec 32 := Scalar.addi v74 c213_i32
  let v3697 : Index := Scalar.indexCast v3696
  ![v3697.toNat]
def k0_mult470 (v3698 : BitVec 32) : BitVec 32 :=
  let c3_i32_1550 : BitVec 32 := 3#32
  let v3699 : BitVec 32 := Scalar.shrsi v3698 c3_i32_1550
  let c8191_i32_1551 : BitVec 32 := 8191#32
  let v3700 : BitVec 32 := Scalar.andi v3699 c8191_i32_1551
  let c8_i32_1552 : BitVec 32 := 8#32
  let v3701 : BitVec 32 := Scalar.muli v3700 c8_i32_1552
  v3701

def k0_off1174 (v3698 : BitVec 32) : Fin 2 → Nat :=
  let c3_i32_1550 : BitVec 32 := 3#32
  let v3699 : BitVec 32 := Scalar.shrsi v3698 c3_i32_1550
  let c8191_i32_1551 : BitVec 32 := 8191#32
  let v3700 : BitVec 32 := Scalar.andi v3699 c8191_i32_1551
  let c8_i32_1552 : BitVec 32 := 8#32
  let v3701 : BitVec 32 := Scalar.muli v3700 c8_i32_1552
  let v3702 : BitVec 32 := v3701
  let v3703 : Index := Scalar.indexCast v3702
  let c0_1553 : Index := 0#32
  ![v3703.toNat, 0]
def k0_off1175 (v3698 : BitVec 32) : Fin 2 → Nat :=
  let c3_i32_1550 : BitVec 32 := 3#32
  let v3699 : BitVec 32 := Scalar.shrsi v3698 c3_i32_1550
  let c8191_i32_1551 : BitVec 32 := 8191#32
  let v3700 : BitVec 32 := Scalar.andi v3699 c8191_i32_1551
  let v3708 : Index := Scalar.indexCast v3700
  let c0_1555 : Index := 0#32
  ![v3708.toNat, 0]

def k0_chk473 (i : grid0.Coords) (v13 : BitVec 32) (v3698 : BitVec 32) : Prop :=
  (∀ (k0_h5 : k0_cond5 i v13 = 1#1), 8 ∣ (k0_mult470 v3698).toNat) ∧
  (∀ (k0_h5 : k0_cond5 i v13 = 1#1), ∀ a, (k0_off1174 v3698) a + S8x128.size a ≤ S65536x128.size a) ∧
  (∀ (k0_h5 : k0_cond5 i v13 = 1#1), ∀ a, (k0_off1175 v3698) a + S1x128.size a ≤ S8192x128.size a)
theorem k0_mult470_dvd : ∀ (i : grid0.Coords) (v13 : BitVec 32) (v3698 : BitVec 32) (k0_hw473 : k0_chk473 i v13 v3698), ∀ (k0_h5 : k0_cond5 i v13 = 1#1), 8 ∣ (k0_mult470 v3698).toNat := fun i v13 v3698 k0_hw473 k0_h5 => k0_hw473.1 k0_h5
theorem k0_off1174_inb : ∀ (i : grid0.Coords) (v13 : BitVec 32) (v3698 : BitVec 32) (k0_hw473 : k0_chk473 i v13 v3698), ∀ (k0_h5 : k0_cond5 i v13 = 1#1), ∀ a, (k0_off1174 v3698) a + S8x128.size a ≤ S65536x128.size a := fun i v13 v3698 k0_hw473 k0_h5 => k0_hw473.2.1 k0_h5
theorem k0_off1175_inb : ∀ (i : grid0.Coords) (v13 : BitVec 32) (v3698 : BitVec 32) (k0_hw473 : k0_chk473 i v13 v3698), ∀ (k0_h5 : k0_cond5 i v13 = 1#1), ∀ a, (k0_off1175 v3698) a + S1x128.size a ≤ S8192x128.size a := fun i v13 v3698 k0_hw473 k0_h5 => k0_hw473.2.2 k0_h5

def k0_off1176 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c214_i32 : BitVec 32 := 214#32
  let v3713 : BitVec 32 := Scalar.addi v74 c214_i32
  let v3714 : Index := Scalar.indexCast v3713
  ![v3714.toNat]
def k0_mult471 (v3715 : BitVec 32) : BitVec 32 :=
  let c3_i32_1557 : BitVec 32 := 3#32
  let v3716 : BitVec 32 := Scalar.shrsi v3715 c3_i32_1557
  let c8191_i32_1558 : BitVec 32 := 8191#32
  let v3717 : BitVec 32 := Scalar.andi v3716 c8191_i32_1558
  let c8_i32_1559 : BitVec 32 := 8#32
  let v3718 : BitVec 32 := Scalar.muli v3717 c8_i32_1559
  v3718

def k0_off1177 (v3715 : BitVec 32) : Fin 2 → Nat :=
  let c3_i32_1557 : BitVec 32 := 3#32
  let v3716 : BitVec 32 := Scalar.shrsi v3715 c3_i32_1557
  let c8191_i32_1558 : BitVec 32 := 8191#32
  let v3717 : BitVec 32 := Scalar.andi v3716 c8191_i32_1558
  let c8_i32_1559 : BitVec 32 := 8#32
  let v3718 : BitVec 32 := Scalar.muli v3717 c8_i32_1559
  let v3719 : BitVec 32 := v3718
  let v3720 : Index := Scalar.indexCast v3719
  let c0_1560 : Index := 0#32
  ![v3720.toNat, 0]
def k0_off1178 (v3715 : BitVec 32) : Fin 2 → Nat :=
  let c3_i32_1557 : BitVec 32 := 3#32
  let v3716 : BitVec 32 := Scalar.shrsi v3715 c3_i32_1557
  let c8191_i32_1558 : BitVec 32 := 8191#32
  let v3717 : BitVec 32 := Scalar.andi v3716 c8191_i32_1558
  let v3725 : Index := Scalar.indexCast v3717
  let c0_1562 : Index := 0#32
  ![v3725.toNat, 0]

def k0_chk474 (i : grid0.Coords) (v13 : BitVec 32) (v3715 : BitVec 32) : Prop :=
  (∀ (k0_h5 : k0_cond5 i v13 = 1#1), 8 ∣ (k0_mult471 v3715).toNat) ∧
  (∀ (k0_h5 : k0_cond5 i v13 = 1#1), ∀ a, (k0_off1177 v3715) a + S8x128.size a ≤ S65536x128.size a) ∧
  (∀ (k0_h5 : k0_cond5 i v13 = 1#1), ∀ a, (k0_off1178 v3715) a + S1x128.size a ≤ S8192x128.size a)
theorem k0_mult471_dvd : ∀ (i : grid0.Coords) (v13 : BitVec 32) (v3715 : BitVec 32) (k0_hw474 : k0_chk474 i v13 v3715), ∀ (k0_h5 : k0_cond5 i v13 = 1#1), 8 ∣ (k0_mult471 v3715).toNat := fun i v13 v3715 k0_hw474 k0_h5 => k0_hw474.1 k0_h5
theorem k0_off1177_inb : ∀ (i : grid0.Coords) (v13 : BitVec 32) (v3715 : BitVec 32) (k0_hw474 : k0_chk474 i v13 v3715), ∀ (k0_h5 : k0_cond5 i v13 = 1#1), ∀ a, (k0_off1177 v3715) a + S8x128.size a ≤ S65536x128.size a := fun i v13 v3715 k0_hw474 k0_h5 => k0_hw474.2.1 k0_h5
theorem k0_off1178_inb : ∀ (i : grid0.Coords) (v13 : BitVec 32) (v3715 : BitVec 32) (k0_hw474 : k0_chk474 i v13 v3715), ∀ (k0_h5 : k0_cond5 i v13 = 1#1), ∀ a, (k0_off1178 v3715) a + S1x128.size a ≤ S8192x128.size a := fun i v13 v3715 k0_hw474 k0_h5 => k0_hw474.2.2 k0_h5

def k0_off1179 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c215_i32 : BitVec 32 := 215#32
  let v3730 : BitVec 32 := Scalar.addi v74 c215_i32
  let v3731 : Index := Scalar.indexCast v3730
  ![v3731.toNat]
def k0_mult472 (v3732 : BitVec 32) : BitVec 32 :=
  let c3_i32_1564 : BitVec 32 := 3#32
  let v3733 : BitVec 32 := Scalar.shrsi v3732 c3_i32_1564
  let c8191_i32_1565 : BitVec 32 := 8191#32
  let v3734 : BitVec 32 := Scalar.andi v3733 c8191_i32_1565
  let c8_i32_1566 : BitVec 32 := 8#32
  let v3735 : BitVec 32 := Scalar.muli v3734 c8_i32_1566
  v3735

def k0_off1180 (v3732 : BitVec 32) : Fin 2 → Nat :=
  let c3_i32_1564 : BitVec 32 := 3#32
  let v3733 : BitVec 32 := Scalar.shrsi v3732 c3_i32_1564
  let c8191_i32_1565 : BitVec 32 := 8191#32
  let v3734 : BitVec 32 := Scalar.andi v3733 c8191_i32_1565
  let c8_i32_1566 : BitVec 32 := 8#32
  let v3735 : BitVec 32 := Scalar.muli v3734 c8_i32_1566
  let v3736 : BitVec 32 := v3735
  let v3737 : Index := Scalar.indexCast v3736
  let c0_1567 : Index := 0#32
  ![v3737.toNat, 0]
def k0_off1181 (v3732 : BitVec 32) : Fin 2 → Nat :=
  let c3_i32_1564 : BitVec 32 := 3#32
  let v3733 : BitVec 32 := Scalar.shrsi v3732 c3_i32_1564
  let c8191_i32_1565 : BitVec 32 := 8191#32
  let v3734 : BitVec 32 := Scalar.andi v3733 c8191_i32_1565
  let v3742 : Index := Scalar.indexCast v3734
  let c0_1569 : Index := 0#32
  ![v3742.toNat, 0]

def k0_chk475 (i : grid0.Coords) (v13 : BitVec 32) (v3732 : BitVec 32) : Prop :=
  (∀ (k0_h5 : k0_cond5 i v13 = 1#1), 8 ∣ (k0_mult472 v3732).toNat) ∧
  (∀ (k0_h5 : k0_cond5 i v13 = 1#1), ∀ a, (k0_off1180 v3732) a + S8x128.size a ≤ S65536x128.size a) ∧
  (∀ (k0_h5 : k0_cond5 i v13 = 1#1), ∀ a, (k0_off1181 v3732) a + S1x128.size a ≤ S8192x128.size a)
theorem k0_mult472_dvd : ∀ (i : grid0.Coords) (v13 : BitVec 32) (v3732 : BitVec 32) (k0_hw475 : k0_chk475 i v13 v3732), ∀ (k0_h5 : k0_cond5 i v13 = 1#1), 8 ∣ (k0_mult472 v3732).toNat := fun i v13 v3732 k0_hw475 k0_h5 => k0_hw475.1 k0_h5
theorem k0_off1180_inb : ∀ (i : grid0.Coords) (v13 : BitVec 32) (v3732 : BitVec 32) (k0_hw475 : k0_chk475 i v13 v3732), ∀ (k0_h5 : k0_cond5 i v13 = 1#1), ∀ a, (k0_off1180 v3732) a + S8x128.size a ≤ S65536x128.size a := fun i v13 v3732 k0_hw475 k0_h5 => k0_hw475.2.1 k0_h5
theorem k0_off1181_inb : ∀ (i : grid0.Coords) (v13 : BitVec 32) (v3732 : BitVec 32) (k0_hw475 : k0_chk475 i v13 v3732), ∀ (k0_h5 : k0_cond5 i v13 = 1#1), ∀ a, (k0_off1181 v3732) a + S1x128.size a ≤ S8192x128.size a := fun i v13 v3732 k0_hw475 k0_h5 => k0_hw475.2.2 k0_h5

def k0_off1182 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c216_i32 : BitVec 32 := 216#32
  let v3747 : BitVec 32 := Scalar.addi v74 c216_i32
  let v3748 : Index := Scalar.indexCast v3747
  ![v3748.toNat]
def k0_mult473 (v3749 : BitVec 32) : BitVec 32 :=
  let c3_i32_1571 : BitVec 32 := 3#32
  let v3750 : BitVec 32 := Scalar.shrsi v3749 c3_i32_1571
  let c8191_i32_1572 : BitVec 32 := 8191#32
  let v3751 : BitVec 32 := Scalar.andi v3750 c8191_i32_1572
  let c8_i32_1573 : BitVec 32 := 8#32
  let v3752 : BitVec 32 := Scalar.muli v3751 c8_i32_1573
  v3752

def k0_off1183 (v3749 : BitVec 32) : Fin 2 → Nat :=
  let c3_i32_1571 : BitVec 32 := 3#32
  let v3750 : BitVec 32 := Scalar.shrsi v3749 c3_i32_1571
  let c8191_i32_1572 : BitVec 32 := 8191#32
  let v3751 : BitVec 32 := Scalar.andi v3750 c8191_i32_1572
  let c8_i32_1573 : BitVec 32 := 8#32
  let v3752 : BitVec 32 := Scalar.muli v3751 c8_i32_1573
  let v3753 : BitVec 32 := v3752
  let v3754 : Index := Scalar.indexCast v3753
  let c0_1574 : Index := 0#32
  ![v3754.toNat, 0]
def k0_off1184 (v3749 : BitVec 32) : Fin 2 → Nat :=
  let c3_i32_1571 : BitVec 32 := 3#32
  let v3750 : BitVec 32 := Scalar.shrsi v3749 c3_i32_1571
  let c8191_i32_1572 : BitVec 32 := 8191#32
  let v3751 : BitVec 32 := Scalar.andi v3750 c8191_i32_1572
  let v3759 : Index := Scalar.indexCast v3751
  let c0_1576 : Index := 0#32
  ![v3759.toNat, 0]

def k0_chk476 (i : grid0.Coords) (v13 : BitVec 32) (v3749 : BitVec 32) : Prop :=
  (∀ (k0_h5 : k0_cond5 i v13 = 1#1), 8 ∣ (k0_mult473 v3749).toNat) ∧
  (∀ (k0_h5 : k0_cond5 i v13 = 1#1), ∀ a, (k0_off1183 v3749) a + S8x128.size a ≤ S65536x128.size a) ∧
  (∀ (k0_h5 : k0_cond5 i v13 = 1#1), ∀ a, (k0_off1184 v3749) a + S1x128.size a ≤ S8192x128.size a)
theorem k0_mult473_dvd : ∀ (i : grid0.Coords) (v13 : BitVec 32) (v3749 : BitVec 32) (k0_hw476 : k0_chk476 i v13 v3749), ∀ (k0_h5 : k0_cond5 i v13 = 1#1), 8 ∣ (k0_mult473 v3749).toNat := fun i v13 v3749 k0_hw476 k0_h5 => k0_hw476.1 k0_h5
theorem k0_off1183_inb : ∀ (i : grid0.Coords) (v13 : BitVec 32) (v3749 : BitVec 32) (k0_hw476 : k0_chk476 i v13 v3749), ∀ (k0_h5 : k0_cond5 i v13 = 1#1), ∀ a, (k0_off1183 v3749) a + S8x128.size a ≤ S65536x128.size a := fun i v13 v3749 k0_hw476 k0_h5 => k0_hw476.2.1 k0_h5
theorem k0_off1184_inb : ∀ (i : grid0.Coords) (v13 : BitVec 32) (v3749 : BitVec 32) (k0_hw476 : k0_chk476 i v13 v3749), ∀ (k0_h5 : k0_cond5 i v13 = 1#1), ∀ a, (k0_off1184 v3749) a + S1x128.size a ≤ S8192x128.size a := fun i v13 v3749 k0_hw476 k0_h5 => k0_hw476.2.2 k0_h5

def k0_off1185 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c217_i32 : BitVec 32 := 217#32
  let v3764 : BitVec 32 := Scalar.addi v74 c217_i32
  let v3765 : Index := Scalar.indexCast v3764
  ![v3765.toNat]
def k0_mult474 (v3766 : BitVec 32) : BitVec 32 :=
  let c3_i32_1579 : BitVec 32 := 3#32
  let v3767 : BitVec 32 := Scalar.shrsi v3766 c3_i32_1579
  let c8191_i32_1580 : BitVec 32 := 8191#32
  let v3768 : BitVec 32 := Scalar.andi v3767 c8191_i32_1580
  let c8_i32_1581 : BitVec 32 := 8#32
  let v3769 : BitVec 32 := Scalar.muli v3768 c8_i32_1581
  v3769

def k0_off1186 (v3766 : BitVec 32) : Fin 2 → Nat :=
  let c3_i32_1579 : BitVec 32 := 3#32
  let v3767 : BitVec 32 := Scalar.shrsi v3766 c3_i32_1579
  let c8191_i32_1580 : BitVec 32 := 8191#32
  let v3768 : BitVec 32 := Scalar.andi v3767 c8191_i32_1580
  let c8_i32_1581 : BitVec 32 := 8#32
  let v3769 : BitVec 32 := Scalar.muli v3768 c8_i32_1581
  let v3770 : BitVec 32 := v3769
  let v3771 : Index := Scalar.indexCast v3770
  let c0_1582 : Index := 0#32
  ![v3771.toNat, 0]
def k0_off1187 (v3766 : BitVec 32) : Fin 2 → Nat :=
  let c3_i32_1579 : BitVec 32 := 3#32
  let v3767 : BitVec 32 := Scalar.shrsi v3766 c3_i32_1579
  let c8191_i32_1580 : BitVec 32 := 8191#32
  let v3768 : BitVec 32 := Scalar.andi v3767 c8191_i32_1580
  let v3776 : Index := Scalar.indexCast v3768
  let c0_1584 : Index := 0#32
  ![v3776.toNat, 0]

def k0_chk477 (i : grid0.Coords) (v13 : BitVec 32) (v3766 : BitVec 32) : Prop :=
  (∀ (k0_h5 : k0_cond5 i v13 = 1#1), 8 ∣ (k0_mult474 v3766).toNat) ∧
  (∀ (k0_h5 : k0_cond5 i v13 = 1#1), ∀ a, (k0_off1186 v3766) a + S8x128.size a ≤ S65536x128.size a) ∧
  (∀ (k0_h5 : k0_cond5 i v13 = 1#1), ∀ a, (k0_off1187 v3766) a + S1x128.size a ≤ S8192x128.size a)
theorem k0_mult474_dvd : ∀ (i : grid0.Coords) (v13 : BitVec 32) (v3766 : BitVec 32) (k0_hw477 : k0_chk477 i v13 v3766), ∀ (k0_h5 : k0_cond5 i v13 = 1#1), 8 ∣ (k0_mult474 v3766).toNat := fun i v13 v3766 k0_hw477 k0_h5 => k0_hw477.1 k0_h5
theorem k0_off1186_inb : ∀ (i : grid0.Coords) (v13 : BitVec 32) (v3766 : BitVec 32) (k0_hw477 : k0_chk477 i v13 v3766), ∀ (k0_h5 : k0_cond5 i v13 = 1#1), ∀ a, (k0_off1186 v3766) a + S8x128.size a ≤ S65536x128.size a := fun i v13 v3766 k0_hw477 k0_h5 => k0_hw477.2.1 k0_h5
theorem k0_off1187_inb : ∀ (i : grid0.Coords) (v13 : BitVec 32) (v3766 : BitVec 32) (k0_hw477 : k0_chk477 i v13 v3766), ∀ (k0_h5 : k0_cond5 i v13 = 1#1), ∀ a, (k0_off1187 v3766) a + S1x128.size a ≤ S8192x128.size a := fun i v13 v3766 k0_hw477 k0_h5 => k0_hw477.2.2 k0_h5

def k0_off1188 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c218_i32 : BitVec 32 := 218#32
  let v3781 : BitVec 32 := Scalar.addi v74 c218_i32
  let v3782 : Index := Scalar.indexCast v3781
  ![v3782.toNat]
def k0_mult475 (v3783 : BitVec 32) : BitVec 32 :=
  let c3_i32_1586 : BitVec 32 := 3#32
  let v3784 : BitVec 32 := Scalar.shrsi v3783 c3_i32_1586
  let c8191_i32_1587 : BitVec 32 := 8191#32
  let v3785 : BitVec 32 := Scalar.andi v3784 c8191_i32_1587
  let c8_i32_1588 : BitVec 32 := 8#32
  let v3786 : BitVec 32 := Scalar.muli v3785 c8_i32_1588
  v3786

def k0_off1189 (v3783 : BitVec 32) : Fin 2 → Nat :=
  let c3_i32_1586 : BitVec 32 := 3#32
  let v3784 : BitVec 32 := Scalar.shrsi v3783 c3_i32_1586
  let c8191_i32_1587 : BitVec 32 := 8191#32
  let v3785 : BitVec 32 := Scalar.andi v3784 c8191_i32_1587
  let c8_i32_1588 : BitVec 32 := 8#32
  let v3786 : BitVec 32 := Scalar.muli v3785 c8_i32_1588
  let v3787 : BitVec 32 := v3786
  let v3788 : Index := Scalar.indexCast v3787
  let c0_1589 : Index := 0#32
  ![v3788.toNat, 0]
def k0_off1190 (v3783 : BitVec 32) : Fin 2 → Nat :=
  let c3_i32_1586 : BitVec 32 := 3#32
  let v3784 : BitVec 32 := Scalar.shrsi v3783 c3_i32_1586
  let c8191_i32_1587 : BitVec 32 := 8191#32
  let v3785 : BitVec 32 := Scalar.andi v3784 c8191_i32_1587
  let v3793 : Index := Scalar.indexCast v3785
  let c0_1591 : Index := 0#32
  ![v3793.toNat, 0]

def k0_chk478 (i : grid0.Coords) (v13 : BitVec 32) (v3783 : BitVec 32) : Prop :=
  (∀ (k0_h5 : k0_cond5 i v13 = 1#1), 8 ∣ (k0_mult475 v3783).toNat) ∧
  (∀ (k0_h5 : k0_cond5 i v13 = 1#1), ∀ a, (k0_off1189 v3783) a + S8x128.size a ≤ S65536x128.size a) ∧
  (∀ (k0_h5 : k0_cond5 i v13 = 1#1), ∀ a, (k0_off1190 v3783) a + S1x128.size a ≤ S8192x128.size a)
theorem k0_mult475_dvd : ∀ (i : grid0.Coords) (v13 : BitVec 32) (v3783 : BitVec 32) (k0_hw478 : k0_chk478 i v13 v3783), ∀ (k0_h5 : k0_cond5 i v13 = 1#1), 8 ∣ (k0_mult475 v3783).toNat := fun i v13 v3783 k0_hw478 k0_h5 => k0_hw478.1 k0_h5
theorem k0_off1189_inb : ∀ (i : grid0.Coords) (v13 : BitVec 32) (v3783 : BitVec 32) (k0_hw478 : k0_chk478 i v13 v3783), ∀ (k0_h5 : k0_cond5 i v13 = 1#1), ∀ a, (k0_off1189 v3783) a + S8x128.size a ≤ S65536x128.size a := fun i v13 v3783 k0_hw478 k0_h5 => k0_hw478.2.1 k0_h5
theorem k0_off1190_inb : ∀ (i : grid0.Coords) (v13 : BitVec 32) (v3783 : BitVec 32) (k0_hw478 : k0_chk478 i v13 v3783), ∀ (k0_h5 : k0_cond5 i v13 = 1#1), ∀ a, (k0_off1190 v3783) a + S1x128.size a ≤ S8192x128.size a := fun i v13 v3783 k0_hw478 k0_h5 => k0_hw478.2.2 k0_h5

def k0_off1191 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c219_i32 : BitVec 32 := 219#32
  let v3798 : BitVec 32 := Scalar.addi v74 c219_i32
  let v3799 : Index := Scalar.indexCast v3798
  ![v3799.toNat]
def k0_mult476 (v3800 : BitVec 32) : BitVec 32 :=
  let c3_i32_1593 : BitVec 32 := 3#32
  let v3801 : BitVec 32 := Scalar.shrsi v3800 c3_i32_1593
  let c8191_i32_1594 : BitVec 32 := 8191#32
  let v3802 : BitVec 32 := Scalar.andi v3801 c8191_i32_1594
  let c8_i32_1595 : BitVec 32 := 8#32
  let v3803 : BitVec 32 := Scalar.muli v3802 c8_i32_1595
  v3803

def k0_off1192 (v3800 : BitVec 32) : Fin 2 → Nat :=
  let c3_i32_1593 : BitVec 32 := 3#32
  let v3801 : BitVec 32 := Scalar.shrsi v3800 c3_i32_1593
  let c8191_i32_1594 : BitVec 32 := 8191#32
  let v3802 : BitVec 32 := Scalar.andi v3801 c8191_i32_1594
  let c8_i32_1595 : BitVec 32 := 8#32
  let v3803 : BitVec 32 := Scalar.muli v3802 c8_i32_1595
  let v3804 : BitVec 32 := v3803
  let v3805 : Index := Scalar.indexCast v3804
  let c0_1596 : Index := 0#32
  ![v3805.toNat, 0]
def k0_off1193 (v3800 : BitVec 32) : Fin 2 → Nat :=
  let c3_i32_1593 : BitVec 32 := 3#32
  let v3801 : BitVec 32 := Scalar.shrsi v3800 c3_i32_1593
  let c8191_i32_1594 : BitVec 32 := 8191#32
  let v3802 : BitVec 32 := Scalar.andi v3801 c8191_i32_1594
  let v3810 : Index := Scalar.indexCast v3802
  let c0_1598 : Index := 0#32
  ![v3810.toNat, 0]

def k0_chk479 (i : grid0.Coords) (v13 : BitVec 32) (v3800 : BitVec 32) : Prop :=
  (∀ (k0_h5 : k0_cond5 i v13 = 1#1), 8 ∣ (k0_mult476 v3800).toNat) ∧
  (∀ (k0_h5 : k0_cond5 i v13 = 1#1), ∀ a, (k0_off1192 v3800) a + S8x128.size a ≤ S65536x128.size a) ∧
  (∀ (k0_h5 : k0_cond5 i v13 = 1#1), ∀ a, (k0_off1193 v3800) a + S1x128.size a ≤ S8192x128.size a)
theorem k0_mult476_dvd : ∀ (i : grid0.Coords) (v13 : BitVec 32) (v3800 : BitVec 32) (k0_hw479 : k0_chk479 i v13 v3800), ∀ (k0_h5 : k0_cond5 i v13 = 1#1), 8 ∣ (k0_mult476 v3800).toNat := fun i v13 v3800 k0_hw479 k0_h5 => k0_hw479.1 k0_h5
theorem k0_off1192_inb : ∀ (i : grid0.Coords) (v13 : BitVec 32) (v3800 : BitVec 32) (k0_hw479 : k0_chk479 i v13 v3800), ∀ (k0_h5 : k0_cond5 i v13 = 1#1), ∀ a, (k0_off1192 v3800) a + S8x128.size a ≤ S65536x128.size a := fun i v13 v3800 k0_hw479 k0_h5 => k0_hw479.2.1 k0_h5
theorem k0_off1193_inb : ∀ (i : grid0.Coords) (v13 : BitVec 32) (v3800 : BitVec 32) (k0_hw479 : k0_chk479 i v13 v3800), ∀ (k0_h5 : k0_cond5 i v13 = 1#1), ∀ a, (k0_off1193 v3800) a + S1x128.size a ≤ S8192x128.size a := fun i v13 v3800 k0_hw479 k0_h5 => k0_hw479.2.2 k0_h5

def k0_off1194 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c220_i32 : BitVec 32 := 220#32
  let v3815 : BitVec 32 := Scalar.addi v74 c220_i32
  let v3816 : Index := Scalar.indexCast v3815
  ![v3816.toNat]
def k0_mult477 (v3817 : BitVec 32) : BitVec 32 :=
  let c3_i32_1600 : BitVec 32 := 3#32
  let v3818 : BitVec 32 := Scalar.shrsi v3817 c3_i32_1600
  let c8191_i32_1601 : BitVec 32 := 8191#32
  let v3819 : BitVec 32 := Scalar.andi v3818 c8191_i32_1601
  let c8_i32_1602 : BitVec 32 := 8#32
  let v3820 : BitVec 32 := Scalar.muli v3819 c8_i32_1602
  v3820

def k0_off1195 (v3817 : BitVec 32) : Fin 2 → Nat :=
  let c3_i32_1600 : BitVec 32 := 3#32
  let v3818 : BitVec 32 := Scalar.shrsi v3817 c3_i32_1600
  let c8191_i32_1601 : BitVec 32 := 8191#32
  let v3819 : BitVec 32 := Scalar.andi v3818 c8191_i32_1601
  let c8_i32_1602 : BitVec 32 := 8#32
  let v3820 : BitVec 32 := Scalar.muli v3819 c8_i32_1602
  let v3821 : BitVec 32 := v3820
  let v3822 : Index := Scalar.indexCast v3821
  let c0_1603 : Index := 0#32
  ![v3822.toNat, 0]
def k0_off1196 (v3817 : BitVec 32) : Fin 2 → Nat :=
  let c3_i32_1600 : BitVec 32 := 3#32
  let v3818 : BitVec 32 := Scalar.shrsi v3817 c3_i32_1600
  let c8191_i32_1601 : BitVec 32 := 8191#32
  let v3819 : BitVec 32 := Scalar.andi v3818 c8191_i32_1601
  let v3827 : Index := Scalar.indexCast v3819
  let c0_1605 : Index := 0#32
  ![v3827.toNat, 0]

def k0_chk480 (i : grid0.Coords) (v13 : BitVec 32) (v3817 : BitVec 32) : Prop :=
  (∀ (k0_h5 : k0_cond5 i v13 = 1#1), 8 ∣ (k0_mult477 v3817).toNat) ∧
  (∀ (k0_h5 : k0_cond5 i v13 = 1#1), ∀ a, (k0_off1195 v3817) a + S8x128.size a ≤ S65536x128.size a) ∧
  (∀ (k0_h5 : k0_cond5 i v13 = 1#1), ∀ a, (k0_off1196 v3817) a + S1x128.size a ≤ S8192x128.size a)
theorem k0_mult477_dvd : ∀ (i : grid0.Coords) (v13 : BitVec 32) (v3817 : BitVec 32) (k0_hw480 : k0_chk480 i v13 v3817), ∀ (k0_h5 : k0_cond5 i v13 = 1#1), 8 ∣ (k0_mult477 v3817).toNat := fun i v13 v3817 k0_hw480 k0_h5 => k0_hw480.1 k0_h5
theorem k0_off1195_inb : ∀ (i : grid0.Coords) (v13 : BitVec 32) (v3817 : BitVec 32) (k0_hw480 : k0_chk480 i v13 v3817), ∀ (k0_h5 : k0_cond5 i v13 = 1#1), ∀ a, (k0_off1195 v3817) a + S8x128.size a ≤ S65536x128.size a := fun i v13 v3817 k0_hw480 k0_h5 => k0_hw480.2.1 k0_h5
theorem k0_off1196_inb : ∀ (i : grid0.Coords) (v13 : BitVec 32) (v3817 : BitVec 32) (k0_hw480 : k0_chk480 i v13 v3817), ∀ (k0_h5 : k0_cond5 i v13 = 1#1), ∀ a, (k0_off1196 v3817) a + S1x128.size a ≤ S8192x128.size a := fun i v13 v3817 k0_hw480 k0_h5 => k0_hw480.2.2 k0_h5

def k0_off1197 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c221_i32 : BitVec 32 := 221#32
  let v3832 : BitVec 32 := Scalar.addi v74 c221_i32
  let v3833 : Index := Scalar.indexCast v3832
  ![v3833.toNat]
def k0_mult478 (v3834 : BitVec 32) : BitVec 32 :=
  let c3_i32_1607 : BitVec 32 := 3#32
  let v3835 : BitVec 32 := Scalar.shrsi v3834 c3_i32_1607
  let c8191_i32_1608 : BitVec 32 := 8191#32
  let v3836 : BitVec 32 := Scalar.andi v3835 c8191_i32_1608
  let c8_i32_1609 : BitVec 32 := 8#32
  let v3837 : BitVec 32 := Scalar.muli v3836 c8_i32_1609
  v3837

def k0_off1198 (v3834 : BitVec 32) : Fin 2 → Nat :=
  let c3_i32_1607 : BitVec 32 := 3#32
  let v3835 : BitVec 32 := Scalar.shrsi v3834 c3_i32_1607
  let c8191_i32_1608 : BitVec 32 := 8191#32
  let v3836 : BitVec 32 := Scalar.andi v3835 c8191_i32_1608
  let c8_i32_1609 : BitVec 32 := 8#32
  let v3837 : BitVec 32 := Scalar.muli v3836 c8_i32_1609
  let v3838 : BitVec 32 := v3837
  let v3839 : Index := Scalar.indexCast v3838
  let c0_1610 : Index := 0#32
  ![v3839.toNat, 0]
def k0_off1199 (v3834 : BitVec 32) : Fin 2 → Nat :=
  let c3_i32_1607 : BitVec 32 := 3#32
  let v3835 : BitVec 32 := Scalar.shrsi v3834 c3_i32_1607
  let c8191_i32_1608 : BitVec 32 := 8191#32
  let v3836 : BitVec 32 := Scalar.andi v3835 c8191_i32_1608
  let v3844 : Index := Scalar.indexCast v3836
  let c0_1612 : Index := 0#32
  ![v3844.toNat, 0]

def k0_chk481 (i : grid0.Coords) (v13 : BitVec 32) (v3834 : BitVec 32) : Prop :=
  (∀ (k0_h5 : k0_cond5 i v13 = 1#1), 8 ∣ (k0_mult478 v3834).toNat) ∧
  (∀ (k0_h5 : k0_cond5 i v13 = 1#1), ∀ a, (k0_off1198 v3834) a + S8x128.size a ≤ S65536x128.size a) ∧
  (∀ (k0_h5 : k0_cond5 i v13 = 1#1), ∀ a, (k0_off1199 v3834) a + S1x128.size a ≤ S8192x128.size a)
theorem k0_mult478_dvd : ∀ (i : grid0.Coords) (v13 : BitVec 32) (v3834 : BitVec 32) (k0_hw481 : k0_chk481 i v13 v3834), ∀ (k0_h5 : k0_cond5 i v13 = 1#1), 8 ∣ (k0_mult478 v3834).toNat := fun i v13 v3834 k0_hw481 k0_h5 => k0_hw481.1 k0_h5
theorem k0_off1198_inb : ∀ (i : grid0.Coords) (v13 : BitVec 32) (v3834 : BitVec 32) (k0_hw481 : k0_chk481 i v13 v3834), ∀ (k0_h5 : k0_cond5 i v13 = 1#1), ∀ a, (k0_off1198 v3834) a + S8x128.size a ≤ S65536x128.size a := fun i v13 v3834 k0_hw481 k0_h5 => k0_hw481.2.1 k0_h5
theorem k0_off1199_inb : ∀ (i : grid0.Coords) (v13 : BitVec 32) (v3834 : BitVec 32) (k0_hw481 : k0_chk481 i v13 v3834), ∀ (k0_h5 : k0_cond5 i v13 = 1#1), ∀ a, (k0_off1199 v3834) a + S1x128.size a ≤ S8192x128.size a := fun i v13 v3834 k0_hw481 k0_h5 => k0_hw481.2.2 k0_h5

def k0_off1200 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c222_i32 : BitVec 32 := 222#32
  let v3849 : BitVec 32 := Scalar.addi v74 c222_i32
  let v3850 : Index := Scalar.indexCast v3849
  ![v3850.toNat]
def k0_mult479 (v3851 : BitVec 32) : BitVec 32 :=
  let c3_i32_1614 : BitVec 32 := 3#32
  let v3852 : BitVec 32 := Scalar.shrsi v3851 c3_i32_1614
  let c8191_i32_1615 : BitVec 32 := 8191#32
  let v3853 : BitVec 32 := Scalar.andi v3852 c8191_i32_1615
  let c8_i32_1616 : BitVec 32 := 8#32
  let v3854 : BitVec 32 := Scalar.muli v3853 c8_i32_1616
  v3854

def k0_off1201 (v3851 : BitVec 32) : Fin 2 → Nat :=
  let c3_i32_1614 : BitVec 32 := 3#32
  let v3852 : BitVec 32 := Scalar.shrsi v3851 c3_i32_1614
  let c8191_i32_1615 : BitVec 32 := 8191#32
  let v3853 : BitVec 32 := Scalar.andi v3852 c8191_i32_1615
  let c8_i32_1616 : BitVec 32 := 8#32
  let v3854 : BitVec 32 := Scalar.muli v3853 c8_i32_1616
  let v3855 : BitVec 32 := v3854
  let v3856 : Index := Scalar.indexCast v3855
  let c0_1617 : Index := 0#32
  ![v3856.toNat, 0]
def k0_off1202 (v3851 : BitVec 32) : Fin 2 → Nat :=
  let c3_i32_1614 : BitVec 32 := 3#32
  let v3852 : BitVec 32 := Scalar.shrsi v3851 c3_i32_1614
  let c8191_i32_1615 : BitVec 32 := 8191#32
  let v3853 : BitVec 32 := Scalar.andi v3852 c8191_i32_1615
  let v3861 : Index := Scalar.indexCast v3853
  let c0_1619 : Index := 0#32
  ![v3861.toNat, 0]

def k0_chk482 (i : grid0.Coords) (v13 : BitVec 32) (v3851 : BitVec 32) : Prop :=
  (∀ (k0_h5 : k0_cond5 i v13 = 1#1), 8 ∣ (k0_mult479 v3851).toNat) ∧
  (∀ (k0_h5 : k0_cond5 i v13 = 1#1), ∀ a, (k0_off1201 v3851) a + S8x128.size a ≤ S65536x128.size a) ∧
  (∀ (k0_h5 : k0_cond5 i v13 = 1#1), ∀ a, (k0_off1202 v3851) a + S1x128.size a ≤ S8192x128.size a)
theorem k0_mult479_dvd : ∀ (i : grid0.Coords) (v13 : BitVec 32) (v3851 : BitVec 32) (k0_hw482 : k0_chk482 i v13 v3851), ∀ (k0_h5 : k0_cond5 i v13 = 1#1), 8 ∣ (k0_mult479 v3851).toNat := fun i v13 v3851 k0_hw482 k0_h5 => k0_hw482.1 k0_h5
theorem k0_off1201_inb : ∀ (i : grid0.Coords) (v13 : BitVec 32) (v3851 : BitVec 32) (k0_hw482 : k0_chk482 i v13 v3851), ∀ (k0_h5 : k0_cond5 i v13 = 1#1), ∀ a, (k0_off1201 v3851) a + S8x128.size a ≤ S65536x128.size a := fun i v13 v3851 k0_hw482 k0_h5 => k0_hw482.2.1 k0_h5
theorem k0_off1202_inb : ∀ (i : grid0.Coords) (v13 : BitVec 32) (v3851 : BitVec 32) (k0_hw482 : k0_chk482 i v13 v3851), ∀ (k0_h5 : k0_cond5 i v13 = 1#1), ∀ a, (k0_off1202 v3851) a + S1x128.size a ≤ S8192x128.size a := fun i v13 v3851 k0_hw482 k0_h5 => k0_hw482.2.2 k0_h5

def k0_off1203 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c223_i32 : BitVec 32 := 223#32
  let v3866 : BitVec 32 := Scalar.addi v74 c223_i32
  let v3867 : Index := Scalar.indexCast v3866
  ![v3867.toNat]
def k0_mult480 (v3868 : BitVec 32) : BitVec 32 :=
  let c3_i32_1621 : BitVec 32 := 3#32
  let v3869 : BitVec 32 := Scalar.shrsi v3868 c3_i32_1621
  let c8191_i32_1622 : BitVec 32 := 8191#32
  let v3870 : BitVec 32 := Scalar.andi v3869 c8191_i32_1622
  let c8_i32_1623 : BitVec 32 := 8#32
  let v3871 : BitVec 32 := Scalar.muli v3870 c8_i32_1623
  v3871

def k0_off1204 (v3868 : BitVec 32) : Fin 2 → Nat :=
  let c3_i32_1621 : BitVec 32 := 3#32
  let v3869 : BitVec 32 := Scalar.shrsi v3868 c3_i32_1621
  let c8191_i32_1622 : BitVec 32 := 8191#32
  let v3870 : BitVec 32 := Scalar.andi v3869 c8191_i32_1622
  let c8_i32_1623 : BitVec 32 := 8#32
  let v3871 : BitVec 32 := Scalar.muli v3870 c8_i32_1623
  let v3872 : BitVec 32 := v3871
  let v3873 : Index := Scalar.indexCast v3872
  let c0_1624 : Index := 0#32
  ![v3873.toNat, 0]
def k0_off1205 (v3868 : BitVec 32) : Fin 2 → Nat :=
  let c3_i32_1621 : BitVec 32 := 3#32
  let v3869 : BitVec 32 := Scalar.shrsi v3868 c3_i32_1621
  let c8191_i32_1622 : BitVec 32 := 8191#32
  let v3870 : BitVec 32 := Scalar.andi v3869 c8191_i32_1622
  let v3878 : Index := Scalar.indexCast v3870
  let c0_1626 : Index := 0#32
  ![v3878.toNat, 0]

def k0_chk483 (i : grid0.Coords) (v13 : BitVec 32) (v3868 : BitVec 32) : Prop :=
  (∀ (k0_h5 : k0_cond5 i v13 = 1#1), 8 ∣ (k0_mult480 v3868).toNat) ∧
  (∀ (k0_h5 : k0_cond5 i v13 = 1#1), ∀ a, (k0_off1204 v3868) a + S8x128.size a ≤ S65536x128.size a) ∧
  (∀ (k0_h5 : k0_cond5 i v13 = 1#1), ∀ a, (k0_off1205 v3868) a + S1x128.size a ≤ S8192x128.size a)
theorem k0_mult480_dvd : ∀ (i : grid0.Coords) (v13 : BitVec 32) (v3868 : BitVec 32) (k0_hw483 : k0_chk483 i v13 v3868), ∀ (k0_h5 : k0_cond5 i v13 = 1#1), 8 ∣ (k0_mult480 v3868).toNat := fun i v13 v3868 k0_hw483 k0_h5 => k0_hw483.1 k0_h5
theorem k0_off1204_inb : ∀ (i : grid0.Coords) (v13 : BitVec 32) (v3868 : BitVec 32) (k0_hw483 : k0_chk483 i v13 v3868), ∀ (k0_h5 : k0_cond5 i v13 = 1#1), ∀ a, (k0_off1204 v3868) a + S8x128.size a ≤ S65536x128.size a := fun i v13 v3868 k0_hw483 k0_h5 => k0_hw483.2.1 k0_h5
theorem k0_off1205_inb : ∀ (i : grid0.Coords) (v13 : BitVec 32) (v3868 : BitVec 32) (k0_hw483 : k0_chk483 i v13 v3868), ∀ (k0_h5 : k0_cond5 i v13 = 1#1), ∀ a, (k0_off1205 v3868) a + S1x128.size a ≤ S8192x128.size a := fun i v13 v3868 k0_hw483 k0_h5 => k0_hw483.2.2 k0_h5

def k0_off1206 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c224_i32 : BitVec 32 := 224#32
  let v3883 : BitVec 32 := Scalar.addi v74 c224_i32
  let v3884 : Index := Scalar.indexCast v3883
  ![v3884.toNat]
def k0_mult481 (v3885 : BitVec 32) : BitVec 32 :=
  let c3_i32_1628 : BitVec 32 := 3#32
  let v3886 : BitVec 32 := Scalar.shrsi v3885 c3_i32_1628
  let c8191_i32_1629 : BitVec 32 := 8191#32
  let v3887 : BitVec 32 := Scalar.andi v3886 c8191_i32_1629
  let c8_i32_1630 : BitVec 32 := 8#32
  let v3888 : BitVec 32 := Scalar.muli v3887 c8_i32_1630
  v3888

def k0_off1207 (v3885 : BitVec 32) : Fin 2 → Nat :=
  let c3_i32_1628 : BitVec 32 := 3#32
  let v3886 : BitVec 32 := Scalar.shrsi v3885 c3_i32_1628
  let c8191_i32_1629 : BitVec 32 := 8191#32
  let v3887 : BitVec 32 := Scalar.andi v3886 c8191_i32_1629
  let c8_i32_1630 : BitVec 32 := 8#32
  let v3888 : BitVec 32 := Scalar.muli v3887 c8_i32_1630
  let v3889 : BitVec 32 := v3888
  let v3890 : Index := Scalar.indexCast v3889
  let c0_1631 : Index := 0#32
  ![v3890.toNat, 0]
def k0_off1208 (v3885 : BitVec 32) : Fin 2 → Nat :=
  let c3_i32_1628 : BitVec 32 := 3#32
  let v3886 : BitVec 32 := Scalar.shrsi v3885 c3_i32_1628
  let c8191_i32_1629 : BitVec 32 := 8191#32
  let v3887 : BitVec 32 := Scalar.andi v3886 c8191_i32_1629
  let v3895 : Index := Scalar.indexCast v3887
  let c0_1633 : Index := 0#32
  ![v3895.toNat, 0]

def k0_chk484 (i : grid0.Coords) (v13 : BitVec 32) (v3885 : BitVec 32) : Prop :=
  (∀ (k0_h5 : k0_cond5 i v13 = 1#1), 8 ∣ (k0_mult481 v3885).toNat) ∧
  (∀ (k0_h5 : k0_cond5 i v13 = 1#1), ∀ a, (k0_off1207 v3885) a + S8x128.size a ≤ S65536x128.size a) ∧
  (∀ (k0_h5 : k0_cond5 i v13 = 1#1), ∀ a, (k0_off1208 v3885) a + S1x128.size a ≤ S8192x128.size a)
theorem k0_mult481_dvd : ∀ (i : grid0.Coords) (v13 : BitVec 32) (v3885 : BitVec 32) (k0_hw484 : k0_chk484 i v13 v3885), ∀ (k0_h5 : k0_cond5 i v13 = 1#1), 8 ∣ (k0_mult481 v3885).toNat := fun i v13 v3885 k0_hw484 k0_h5 => k0_hw484.1 k0_h5
theorem k0_off1207_inb : ∀ (i : grid0.Coords) (v13 : BitVec 32) (v3885 : BitVec 32) (k0_hw484 : k0_chk484 i v13 v3885), ∀ (k0_h5 : k0_cond5 i v13 = 1#1), ∀ a, (k0_off1207 v3885) a + S8x128.size a ≤ S65536x128.size a := fun i v13 v3885 k0_hw484 k0_h5 => k0_hw484.2.1 k0_h5
theorem k0_off1208_inb : ∀ (i : grid0.Coords) (v13 : BitVec 32) (v3885 : BitVec 32) (k0_hw484 : k0_chk484 i v13 v3885), ∀ (k0_h5 : k0_cond5 i v13 = 1#1), ∀ a, (k0_off1208 v3885) a + S1x128.size a ≤ S8192x128.size a := fun i v13 v3885 k0_hw484 k0_h5 => k0_hw484.2.2 k0_h5

def k0_off1209 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c225_i32 : BitVec 32 := 225#32
  let v3900 : BitVec 32 := Scalar.addi v74 c225_i32
  let v3901 : Index := Scalar.indexCast v3900
  ![v3901.toNat]
def k0_mult482 (v3902 : BitVec 32) : BitVec 32 :=
  let c3_i32_1636 : BitVec 32 := 3#32
  let v3903 : BitVec 32 := Scalar.shrsi v3902 c3_i32_1636
  let c8191_i32_1637 : BitVec 32 := 8191#32
  let v3904 : BitVec 32 := Scalar.andi v3903 c8191_i32_1637
  let c8_i32_1638 : BitVec 32 := 8#32
  let v3905 : BitVec 32 := Scalar.muli v3904 c8_i32_1638
  v3905

def k0_off1210 (v3902 : BitVec 32) : Fin 2 → Nat :=
  let c3_i32_1636 : BitVec 32 := 3#32
  let v3903 : BitVec 32 := Scalar.shrsi v3902 c3_i32_1636
  let c8191_i32_1637 : BitVec 32 := 8191#32
  let v3904 : BitVec 32 := Scalar.andi v3903 c8191_i32_1637
  let c8_i32_1638 : BitVec 32 := 8#32
  let v3905 : BitVec 32 := Scalar.muli v3904 c8_i32_1638
  let v3906 : BitVec 32 := v3905
  let v3907 : Index := Scalar.indexCast v3906
  let c0_1639 : Index := 0#32
  ![v3907.toNat, 0]
def k0_off1211 (v3902 : BitVec 32) : Fin 2 → Nat :=
  let c3_i32_1636 : BitVec 32 := 3#32
  let v3903 : BitVec 32 := Scalar.shrsi v3902 c3_i32_1636
  let c8191_i32_1637 : BitVec 32 := 8191#32
  let v3904 : BitVec 32 := Scalar.andi v3903 c8191_i32_1637
  let v3912 : Index := Scalar.indexCast v3904
  let c0_1641 : Index := 0#32
  ![v3912.toNat, 0]

def k0_chk485 (i : grid0.Coords) (v13 : BitVec 32) (v3902 : BitVec 32) : Prop :=
  (∀ (k0_h5 : k0_cond5 i v13 = 1#1), 8 ∣ (k0_mult482 v3902).toNat) ∧
  (∀ (k0_h5 : k0_cond5 i v13 = 1#1), ∀ a, (k0_off1210 v3902) a + S8x128.size a ≤ S65536x128.size a) ∧
  (∀ (k0_h5 : k0_cond5 i v13 = 1#1), ∀ a, (k0_off1211 v3902) a + S1x128.size a ≤ S8192x128.size a)
theorem k0_mult482_dvd : ∀ (i : grid0.Coords) (v13 : BitVec 32) (v3902 : BitVec 32) (k0_hw485 : k0_chk485 i v13 v3902), ∀ (k0_h5 : k0_cond5 i v13 = 1#1), 8 ∣ (k0_mult482 v3902).toNat := fun i v13 v3902 k0_hw485 k0_h5 => k0_hw485.1 k0_h5
theorem k0_off1210_inb : ∀ (i : grid0.Coords) (v13 : BitVec 32) (v3902 : BitVec 32) (k0_hw485 : k0_chk485 i v13 v3902), ∀ (k0_h5 : k0_cond5 i v13 = 1#1), ∀ a, (k0_off1210 v3902) a + S8x128.size a ≤ S65536x128.size a := fun i v13 v3902 k0_hw485 k0_h5 => k0_hw485.2.1 k0_h5
theorem k0_off1211_inb : ∀ (i : grid0.Coords) (v13 : BitVec 32) (v3902 : BitVec 32) (k0_hw485 : k0_chk485 i v13 v3902), ∀ (k0_h5 : k0_cond5 i v13 = 1#1), ∀ a, (k0_off1211 v3902) a + S1x128.size a ≤ S8192x128.size a := fun i v13 v3902 k0_hw485 k0_h5 => k0_hw485.2.2 k0_h5

def k0_off1212 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c226_i32 : BitVec 32 := 226#32
  let v3917 : BitVec 32 := Scalar.addi v74 c226_i32
  let v3918 : Index := Scalar.indexCast v3917
  ![v3918.toNat]
def k0_mult483 (v3919 : BitVec 32) : BitVec 32 :=
  let c3_i32_1643 : BitVec 32 := 3#32
  let v3920 : BitVec 32 := Scalar.shrsi v3919 c3_i32_1643
  let c8191_i32_1644 : BitVec 32 := 8191#32
  let v3921 : BitVec 32 := Scalar.andi v3920 c8191_i32_1644
  let c8_i32_1645 : BitVec 32 := 8#32
  let v3922 : BitVec 32 := Scalar.muli v3921 c8_i32_1645
  v3922

def k0_off1213 (v3919 : BitVec 32) : Fin 2 → Nat :=
  let c3_i32_1643 : BitVec 32 := 3#32
  let v3920 : BitVec 32 := Scalar.shrsi v3919 c3_i32_1643
  let c8191_i32_1644 : BitVec 32 := 8191#32
  let v3921 : BitVec 32 := Scalar.andi v3920 c8191_i32_1644
  let c8_i32_1645 : BitVec 32 := 8#32
  let v3922 : BitVec 32 := Scalar.muli v3921 c8_i32_1645
  let v3923 : BitVec 32 := v3922
  let v3924 : Index := Scalar.indexCast v3923
  let c0_1646 : Index := 0#32
  ![v3924.toNat, 0]
def k0_off1214 (v3919 : BitVec 32) : Fin 2 → Nat :=
  let c3_i32_1643 : BitVec 32 := 3#32
  let v3920 : BitVec 32 := Scalar.shrsi v3919 c3_i32_1643
  let c8191_i32_1644 : BitVec 32 := 8191#32
  let v3921 : BitVec 32 := Scalar.andi v3920 c8191_i32_1644
  let v3929 : Index := Scalar.indexCast v3921
  let c0_1648 : Index := 0#32
  ![v3929.toNat, 0]

def k0_chk486 (i : grid0.Coords) (v13 : BitVec 32) (v3919 : BitVec 32) : Prop :=
  (∀ (k0_h5 : k0_cond5 i v13 = 1#1), 8 ∣ (k0_mult483 v3919).toNat) ∧
  (∀ (k0_h5 : k0_cond5 i v13 = 1#1), ∀ a, (k0_off1213 v3919) a + S8x128.size a ≤ S65536x128.size a) ∧
  (∀ (k0_h5 : k0_cond5 i v13 = 1#1), ∀ a, (k0_off1214 v3919) a + S1x128.size a ≤ S8192x128.size a)
theorem k0_mult483_dvd : ∀ (i : grid0.Coords) (v13 : BitVec 32) (v3919 : BitVec 32) (k0_hw486 : k0_chk486 i v13 v3919), ∀ (k0_h5 : k0_cond5 i v13 = 1#1), 8 ∣ (k0_mult483 v3919).toNat := fun i v13 v3919 k0_hw486 k0_h5 => k0_hw486.1 k0_h5
theorem k0_off1213_inb : ∀ (i : grid0.Coords) (v13 : BitVec 32) (v3919 : BitVec 32) (k0_hw486 : k0_chk486 i v13 v3919), ∀ (k0_h5 : k0_cond5 i v13 = 1#1), ∀ a, (k0_off1213 v3919) a + S8x128.size a ≤ S65536x128.size a := fun i v13 v3919 k0_hw486 k0_h5 => k0_hw486.2.1 k0_h5
theorem k0_off1214_inb : ∀ (i : grid0.Coords) (v13 : BitVec 32) (v3919 : BitVec 32) (k0_hw486 : k0_chk486 i v13 v3919), ∀ (k0_h5 : k0_cond5 i v13 = 1#1), ∀ a, (k0_off1214 v3919) a + S1x128.size a ≤ S8192x128.size a := fun i v13 v3919 k0_hw486 k0_h5 => k0_hw486.2.2 k0_h5

def k0_off1215 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c227_i32 : BitVec 32 := 227#32
  let v3934 : BitVec 32 := Scalar.addi v74 c227_i32
  let v3935 : Index := Scalar.indexCast v3934
  ![v3935.toNat]
def k0_mult484 (v3936 : BitVec 32) : BitVec 32 :=
  let c3_i32_1650 : BitVec 32 := 3#32
  let v3937 : BitVec 32 := Scalar.shrsi v3936 c3_i32_1650
  let c8191_i32_1651 : BitVec 32 := 8191#32
  let v3938 : BitVec 32 := Scalar.andi v3937 c8191_i32_1651
  let c8_i32_1652 : BitVec 32 := 8#32
  let v3939 : BitVec 32 := Scalar.muli v3938 c8_i32_1652
  v3939

def k0_off1216 (v3936 : BitVec 32) : Fin 2 → Nat :=
  let c3_i32_1650 : BitVec 32 := 3#32
  let v3937 : BitVec 32 := Scalar.shrsi v3936 c3_i32_1650
  let c8191_i32_1651 : BitVec 32 := 8191#32
  let v3938 : BitVec 32 := Scalar.andi v3937 c8191_i32_1651
  let c8_i32_1652 : BitVec 32 := 8#32
  let v3939 : BitVec 32 := Scalar.muli v3938 c8_i32_1652
  let v3940 : BitVec 32 := v3939
  let v3941 : Index := Scalar.indexCast v3940
  let c0_1653 : Index := 0#32
  ![v3941.toNat, 0]
def k0_off1217 (v3936 : BitVec 32) : Fin 2 → Nat :=
  let c3_i32_1650 : BitVec 32 := 3#32
  let v3937 : BitVec 32 := Scalar.shrsi v3936 c3_i32_1650
  let c8191_i32_1651 : BitVec 32 := 8191#32
  let v3938 : BitVec 32 := Scalar.andi v3937 c8191_i32_1651
  let v3946 : Index := Scalar.indexCast v3938
  let c0_1655 : Index := 0#32
  ![v3946.toNat, 0]

def k0_chk487 (i : grid0.Coords) (v13 : BitVec 32) (v3936 : BitVec 32) : Prop :=
  (∀ (k0_h5 : k0_cond5 i v13 = 1#1), 8 ∣ (k0_mult484 v3936).toNat) ∧
  (∀ (k0_h5 : k0_cond5 i v13 = 1#1), ∀ a, (k0_off1216 v3936) a + S8x128.size a ≤ S65536x128.size a) ∧
  (∀ (k0_h5 : k0_cond5 i v13 = 1#1), ∀ a, (k0_off1217 v3936) a + S1x128.size a ≤ S8192x128.size a)
theorem k0_mult484_dvd : ∀ (i : grid0.Coords) (v13 : BitVec 32) (v3936 : BitVec 32) (k0_hw487 : k0_chk487 i v13 v3936), ∀ (k0_h5 : k0_cond5 i v13 = 1#1), 8 ∣ (k0_mult484 v3936).toNat := fun i v13 v3936 k0_hw487 k0_h5 => k0_hw487.1 k0_h5
theorem k0_off1216_inb : ∀ (i : grid0.Coords) (v13 : BitVec 32) (v3936 : BitVec 32) (k0_hw487 : k0_chk487 i v13 v3936), ∀ (k0_h5 : k0_cond5 i v13 = 1#1), ∀ a, (k0_off1216 v3936) a + S8x128.size a ≤ S65536x128.size a := fun i v13 v3936 k0_hw487 k0_h5 => k0_hw487.2.1 k0_h5
theorem k0_off1217_inb : ∀ (i : grid0.Coords) (v13 : BitVec 32) (v3936 : BitVec 32) (k0_hw487 : k0_chk487 i v13 v3936), ∀ (k0_h5 : k0_cond5 i v13 = 1#1), ∀ a, (k0_off1217 v3936) a + S1x128.size a ≤ S8192x128.size a := fun i v13 v3936 k0_hw487 k0_h5 => k0_hw487.2.2 k0_h5

def k0_off1218 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c228_i32 : BitVec 32 := 228#32
  let v3951 : BitVec 32 := Scalar.addi v74 c228_i32
  let v3952 : Index := Scalar.indexCast v3951
  ![v3952.toNat]
def k0_mult485 (v3953 : BitVec 32) : BitVec 32 :=
  let c3_i32_1657 : BitVec 32 := 3#32
  let v3954 : BitVec 32 := Scalar.shrsi v3953 c3_i32_1657
  let c8191_i32_1658 : BitVec 32 := 8191#32
  let v3955 : BitVec 32 := Scalar.andi v3954 c8191_i32_1658
  let c8_i32_1659 : BitVec 32 := 8#32
  let v3956 : BitVec 32 := Scalar.muli v3955 c8_i32_1659
  v3956

def k0_off1219 (v3953 : BitVec 32) : Fin 2 → Nat :=
  let c3_i32_1657 : BitVec 32 := 3#32
  let v3954 : BitVec 32 := Scalar.shrsi v3953 c3_i32_1657
  let c8191_i32_1658 : BitVec 32 := 8191#32
  let v3955 : BitVec 32 := Scalar.andi v3954 c8191_i32_1658
  let c8_i32_1659 : BitVec 32 := 8#32
  let v3956 : BitVec 32 := Scalar.muli v3955 c8_i32_1659
  let v3957 : BitVec 32 := v3956
  let v3958 : Index := Scalar.indexCast v3957
  let c0_1660 : Index := 0#32
  ![v3958.toNat, 0]
def k0_off1220 (v3953 : BitVec 32) : Fin 2 → Nat :=
  let c3_i32_1657 : BitVec 32 := 3#32
  let v3954 : BitVec 32 := Scalar.shrsi v3953 c3_i32_1657
  let c8191_i32_1658 : BitVec 32 := 8191#32
  let v3955 : BitVec 32 := Scalar.andi v3954 c8191_i32_1658
  let v3963 : Index := Scalar.indexCast v3955
  let c0_1662 : Index := 0#32
  ![v3963.toNat, 0]

def k0_chk488 (i : grid0.Coords) (v13 : BitVec 32) (v3953 : BitVec 32) : Prop :=
  (∀ (k0_h5 : k0_cond5 i v13 = 1#1), 8 ∣ (k0_mult485 v3953).toNat) ∧
  (∀ (k0_h5 : k0_cond5 i v13 = 1#1), ∀ a, (k0_off1219 v3953) a + S8x128.size a ≤ S65536x128.size a) ∧
  (∀ (k0_h5 : k0_cond5 i v13 = 1#1), ∀ a, (k0_off1220 v3953) a + S1x128.size a ≤ S8192x128.size a)
theorem k0_mult485_dvd : ∀ (i : grid0.Coords) (v13 : BitVec 32) (v3953 : BitVec 32) (k0_hw488 : k0_chk488 i v13 v3953), ∀ (k0_h5 : k0_cond5 i v13 = 1#1), 8 ∣ (k0_mult485 v3953).toNat := fun i v13 v3953 k0_hw488 k0_h5 => k0_hw488.1 k0_h5
theorem k0_off1219_inb : ∀ (i : grid0.Coords) (v13 : BitVec 32) (v3953 : BitVec 32) (k0_hw488 : k0_chk488 i v13 v3953), ∀ (k0_h5 : k0_cond5 i v13 = 1#1), ∀ a, (k0_off1219 v3953) a + S8x128.size a ≤ S65536x128.size a := fun i v13 v3953 k0_hw488 k0_h5 => k0_hw488.2.1 k0_h5
theorem k0_off1220_inb : ∀ (i : grid0.Coords) (v13 : BitVec 32) (v3953 : BitVec 32) (k0_hw488 : k0_chk488 i v13 v3953), ∀ (k0_h5 : k0_cond5 i v13 = 1#1), ∀ a, (k0_off1220 v3953) a + S1x128.size a ≤ S8192x128.size a := fun i v13 v3953 k0_hw488 k0_h5 => k0_hw488.2.2 k0_h5

def k0_off1221 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c229_i32 : BitVec 32 := 229#32
  let v3968 : BitVec 32 := Scalar.addi v74 c229_i32
  let v3969 : Index := Scalar.indexCast v3968
  ![v3969.toNat]
def k0_mult486 (v3970 : BitVec 32) : BitVec 32 :=
  let c3_i32_1664 : BitVec 32 := 3#32
  let v3971 : BitVec 32 := Scalar.shrsi v3970 c3_i32_1664
  let c8191_i32_1665 : BitVec 32 := 8191#32
  let v3972 : BitVec 32 := Scalar.andi v3971 c8191_i32_1665
  let c8_i32_1666 : BitVec 32 := 8#32
  let v3973 : BitVec 32 := Scalar.muli v3972 c8_i32_1666
  v3973

def k0_off1222 (v3970 : BitVec 32) : Fin 2 → Nat :=
  let c3_i32_1664 : BitVec 32 := 3#32
  let v3971 : BitVec 32 := Scalar.shrsi v3970 c3_i32_1664
  let c8191_i32_1665 : BitVec 32 := 8191#32
  let v3972 : BitVec 32 := Scalar.andi v3971 c8191_i32_1665
  let c8_i32_1666 : BitVec 32 := 8#32
  let v3973 : BitVec 32 := Scalar.muli v3972 c8_i32_1666
  let v3974 : BitVec 32 := v3973
  let v3975 : Index := Scalar.indexCast v3974
  let c0_1667 : Index := 0#32
  ![v3975.toNat, 0]
def k0_off1223 (v3970 : BitVec 32) : Fin 2 → Nat :=
  let c3_i32_1664 : BitVec 32 := 3#32
  let v3971 : BitVec 32 := Scalar.shrsi v3970 c3_i32_1664
  let c8191_i32_1665 : BitVec 32 := 8191#32
  let v3972 : BitVec 32 := Scalar.andi v3971 c8191_i32_1665
  let v3980 : Index := Scalar.indexCast v3972
  let c0_1669 : Index := 0#32
  ![v3980.toNat, 0]

def k0_chk489 (i : grid0.Coords) (v13 : BitVec 32) (v3970 : BitVec 32) : Prop :=
  (∀ (k0_h5 : k0_cond5 i v13 = 1#1), 8 ∣ (k0_mult486 v3970).toNat) ∧
  (∀ (k0_h5 : k0_cond5 i v13 = 1#1), ∀ a, (k0_off1222 v3970) a + S8x128.size a ≤ S65536x128.size a) ∧
  (∀ (k0_h5 : k0_cond5 i v13 = 1#1), ∀ a, (k0_off1223 v3970) a + S1x128.size a ≤ S8192x128.size a)
theorem k0_mult486_dvd : ∀ (i : grid0.Coords) (v13 : BitVec 32) (v3970 : BitVec 32) (k0_hw489 : k0_chk489 i v13 v3970), ∀ (k0_h5 : k0_cond5 i v13 = 1#1), 8 ∣ (k0_mult486 v3970).toNat := fun i v13 v3970 k0_hw489 k0_h5 => k0_hw489.1 k0_h5
theorem k0_off1222_inb : ∀ (i : grid0.Coords) (v13 : BitVec 32) (v3970 : BitVec 32) (k0_hw489 : k0_chk489 i v13 v3970), ∀ (k0_h5 : k0_cond5 i v13 = 1#1), ∀ a, (k0_off1222 v3970) a + S8x128.size a ≤ S65536x128.size a := fun i v13 v3970 k0_hw489 k0_h5 => k0_hw489.2.1 k0_h5
theorem k0_off1223_inb : ∀ (i : grid0.Coords) (v13 : BitVec 32) (v3970 : BitVec 32) (k0_hw489 : k0_chk489 i v13 v3970), ∀ (k0_h5 : k0_cond5 i v13 = 1#1), ∀ a, (k0_off1223 v3970) a + S1x128.size a ≤ S8192x128.size a := fun i v13 v3970 k0_hw489 k0_h5 => k0_hw489.2.2 k0_h5

def k0_off1224 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c230_i32 : BitVec 32 := 230#32
  let v3985 : BitVec 32 := Scalar.addi v74 c230_i32
  let v3986 : Index := Scalar.indexCast v3985
  ![v3986.toNat]
def k0_mult487 (v3987 : BitVec 32) : BitVec 32 :=
  let c3_i32_1671 : BitVec 32 := 3#32
  let v3988 : BitVec 32 := Scalar.shrsi v3987 c3_i32_1671
  let c8191_i32_1672 : BitVec 32 := 8191#32
  let v3989 : BitVec 32 := Scalar.andi v3988 c8191_i32_1672
  let c8_i32_1673 : BitVec 32 := 8#32
  let v3990 : BitVec 32 := Scalar.muli v3989 c8_i32_1673
  v3990

def k0_off1225 (v3987 : BitVec 32) : Fin 2 → Nat :=
  let c3_i32_1671 : BitVec 32 := 3#32
  let v3988 : BitVec 32 := Scalar.shrsi v3987 c3_i32_1671
  let c8191_i32_1672 : BitVec 32 := 8191#32
  let v3989 : BitVec 32 := Scalar.andi v3988 c8191_i32_1672
  let c8_i32_1673 : BitVec 32 := 8#32
  let v3990 : BitVec 32 := Scalar.muli v3989 c8_i32_1673
  let v3991 : BitVec 32 := v3990
  let v3992 : Index := Scalar.indexCast v3991
  let c0_1674 : Index := 0#32
  ![v3992.toNat, 0]
def k0_off1226 (v3987 : BitVec 32) : Fin 2 → Nat :=
  let c3_i32_1671 : BitVec 32 := 3#32
  let v3988 : BitVec 32 := Scalar.shrsi v3987 c3_i32_1671
  let c8191_i32_1672 : BitVec 32 := 8191#32
  let v3989 : BitVec 32 := Scalar.andi v3988 c8191_i32_1672
  let v3997 : Index := Scalar.indexCast v3989
  let c0_1676 : Index := 0#32
  ![v3997.toNat, 0]

def k0_chk490 (i : grid0.Coords) (v13 : BitVec 32) (v3987 : BitVec 32) : Prop :=
  (∀ (k0_h5 : k0_cond5 i v13 = 1#1), 8 ∣ (k0_mult487 v3987).toNat) ∧
  (∀ (k0_h5 : k0_cond5 i v13 = 1#1), ∀ a, (k0_off1225 v3987) a + S8x128.size a ≤ S65536x128.size a) ∧
  (∀ (k0_h5 : k0_cond5 i v13 = 1#1), ∀ a, (k0_off1226 v3987) a + S1x128.size a ≤ S8192x128.size a)
theorem k0_mult487_dvd : ∀ (i : grid0.Coords) (v13 : BitVec 32) (v3987 : BitVec 32) (k0_hw490 : k0_chk490 i v13 v3987), ∀ (k0_h5 : k0_cond5 i v13 = 1#1), 8 ∣ (k0_mult487 v3987).toNat := fun i v13 v3987 k0_hw490 k0_h5 => k0_hw490.1 k0_h5
theorem k0_off1225_inb : ∀ (i : grid0.Coords) (v13 : BitVec 32) (v3987 : BitVec 32) (k0_hw490 : k0_chk490 i v13 v3987), ∀ (k0_h5 : k0_cond5 i v13 = 1#1), ∀ a, (k0_off1225 v3987) a + S8x128.size a ≤ S65536x128.size a := fun i v13 v3987 k0_hw490 k0_h5 => k0_hw490.2.1 k0_h5
theorem k0_off1226_inb : ∀ (i : grid0.Coords) (v13 : BitVec 32) (v3987 : BitVec 32) (k0_hw490 : k0_chk490 i v13 v3987), ∀ (k0_h5 : k0_cond5 i v13 = 1#1), ∀ a, (k0_off1226 v3987) a + S1x128.size a ≤ S8192x128.size a := fun i v13 v3987 k0_hw490 k0_h5 => k0_hw490.2.2 k0_h5

def k0_off1227 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c231_i32 : BitVec 32 := 231#32
  let v4002 : BitVec 32 := Scalar.addi v74 c231_i32
  let v4003 : Index := Scalar.indexCast v4002
  ![v4003.toNat]
def k0_mult488 (v4004 : BitVec 32) : BitVec 32 :=
  let c3_i32_1678 : BitVec 32 := 3#32
  let v4005 : BitVec 32 := Scalar.shrsi v4004 c3_i32_1678
  let c8191_i32_1679 : BitVec 32 := 8191#32
  let v4006 : BitVec 32 := Scalar.andi v4005 c8191_i32_1679
  let c8_i32_1680 : BitVec 32 := 8#32
  let v4007 : BitVec 32 := Scalar.muli v4006 c8_i32_1680
  v4007

def k0_off1228 (v4004 : BitVec 32) : Fin 2 → Nat :=
  let c3_i32_1678 : BitVec 32 := 3#32
  let v4005 : BitVec 32 := Scalar.shrsi v4004 c3_i32_1678
  let c8191_i32_1679 : BitVec 32 := 8191#32
  let v4006 : BitVec 32 := Scalar.andi v4005 c8191_i32_1679
  let c8_i32_1680 : BitVec 32 := 8#32
  let v4007 : BitVec 32 := Scalar.muli v4006 c8_i32_1680
  let v4008 : BitVec 32 := v4007
  let v4009 : Index := Scalar.indexCast v4008
  let c0_1681 : Index := 0#32
  ![v4009.toNat, 0]
def k0_off1229 (v4004 : BitVec 32) : Fin 2 → Nat :=
  let c3_i32_1678 : BitVec 32 := 3#32
  let v4005 : BitVec 32 := Scalar.shrsi v4004 c3_i32_1678
  let c8191_i32_1679 : BitVec 32 := 8191#32
  let v4006 : BitVec 32 := Scalar.andi v4005 c8191_i32_1679
  let v4014 : Index := Scalar.indexCast v4006
  let c0_1683 : Index := 0#32
  ![v4014.toNat, 0]

def k0_chk491 (i : grid0.Coords) (v13 : BitVec 32) (v4004 : BitVec 32) : Prop :=
  (∀ (k0_h5 : k0_cond5 i v13 = 1#1), 8 ∣ (k0_mult488 v4004).toNat) ∧
  (∀ (k0_h5 : k0_cond5 i v13 = 1#1), ∀ a, (k0_off1228 v4004) a + S8x128.size a ≤ S65536x128.size a) ∧
  (∀ (k0_h5 : k0_cond5 i v13 = 1#1), ∀ a, (k0_off1229 v4004) a + S1x128.size a ≤ S8192x128.size a)
theorem k0_mult488_dvd : ∀ (i : grid0.Coords) (v13 : BitVec 32) (v4004 : BitVec 32) (k0_hw491 : k0_chk491 i v13 v4004), ∀ (k0_h5 : k0_cond5 i v13 = 1#1), 8 ∣ (k0_mult488 v4004).toNat := fun i v13 v4004 k0_hw491 k0_h5 => k0_hw491.1 k0_h5
theorem k0_off1228_inb : ∀ (i : grid0.Coords) (v13 : BitVec 32) (v4004 : BitVec 32) (k0_hw491 : k0_chk491 i v13 v4004), ∀ (k0_h5 : k0_cond5 i v13 = 1#1), ∀ a, (k0_off1228 v4004) a + S8x128.size a ≤ S65536x128.size a := fun i v13 v4004 k0_hw491 k0_h5 => k0_hw491.2.1 k0_h5
theorem k0_off1229_inb : ∀ (i : grid0.Coords) (v13 : BitVec 32) (v4004 : BitVec 32) (k0_hw491 : k0_chk491 i v13 v4004), ∀ (k0_h5 : k0_cond5 i v13 = 1#1), ∀ a, (k0_off1229 v4004) a + S1x128.size a ≤ S8192x128.size a := fun i v13 v4004 k0_hw491 k0_h5 => k0_hw491.2.2 k0_h5

def k0_off1230 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c232_i32 : BitVec 32 := 232#32
  let v4019 : BitVec 32 := Scalar.addi v74 c232_i32
  let v4020 : Index := Scalar.indexCast v4019
  ![v4020.toNat]
def k0_mult489 (v4021 : BitVec 32) : BitVec 32 :=
  let c3_i32_1685 : BitVec 32 := 3#32
  let v4022 : BitVec 32 := Scalar.shrsi v4021 c3_i32_1685
  let c8191_i32_1686 : BitVec 32 := 8191#32
  let v4023 : BitVec 32 := Scalar.andi v4022 c8191_i32_1686
  let c8_i32_1687 : BitVec 32 := 8#32
  let v4024 : BitVec 32 := Scalar.muli v4023 c8_i32_1687
  v4024

def k0_off1231 (v4021 : BitVec 32) : Fin 2 → Nat :=
  let c3_i32_1685 : BitVec 32 := 3#32
  let v4022 : BitVec 32 := Scalar.shrsi v4021 c3_i32_1685
  let c8191_i32_1686 : BitVec 32 := 8191#32
  let v4023 : BitVec 32 := Scalar.andi v4022 c8191_i32_1686
  let c8_i32_1687 : BitVec 32 := 8#32
  let v4024 : BitVec 32 := Scalar.muli v4023 c8_i32_1687
  let v4025 : BitVec 32 := v4024
  let v4026 : Index := Scalar.indexCast v4025
  let c0_1688 : Index := 0#32
  ![v4026.toNat, 0]
def k0_off1232 (v4021 : BitVec 32) : Fin 2 → Nat :=
  let c3_i32_1685 : BitVec 32 := 3#32
  let v4022 : BitVec 32 := Scalar.shrsi v4021 c3_i32_1685
  let c8191_i32_1686 : BitVec 32 := 8191#32
  let v4023 : BitVec 32 := Scalar.andi v4022 c8191_i32_1686
  let v4031 : Index := Scalar.indexCast v4023
  let c0_1690 : Index := 0#32
  ![v4031.toNat, 0]

def k0_chk492 (i : grid0.Coords) (v13 : BitVec 32) (v4021 : BitVec 32) : Prop :=
  (∀ (k0_h5 : k0_cond5 i v13 = 1#1), 8 ∣ (k0_mult489 v4021).toNat) ∧
  (∀ (k0_h5 : k0_cond5 i v13 = 1#1), ∀ a, (k0_off1231 v4021) a + S8x128.size a ≤ S65536x128.size a) ∧
  (∀ (k0_h5 : k0_cond5 i v13 = 1#1), ∀ a, (k0_off1232 v4021) a + S1x128.size a ≤ S8192x128.size a)
theorem k0_mult489_dvd : ∀ (i : grid0.Coords) (v13 : BitVec 32) (v4021 : BitVec 32) (k0_hw492 : k0_chk492 i v13 v4021), ∀ (k0_h5 : k0_cond5 i v13 = 1#1), 8 ∣ (k0_mult489 v4021).toNat := fun i v13 v4021 k0_hw492 k0_h5 => k0_hw492.1 k0_h5
theorem k0_off1231_inb : ∀ (i : grid0.Coords) (v13 : BitVec 32) (v4021 : BitVec 32) (k0_hw492 : k0_chk492 i v13 v4021), ∀ (k0_h5 : k0_cond5 i v13 = 1#1), ∀ a, (k0_off1231 v4021) a + S8x128.size a ≤ S65536x128.size a := fun i v13 v4021 k0_hw492 k0_h5 => k0_hw492.2.1 k0_h5
theorem k0_off1232_inb : ∀ (i : grid0.Coords) (v13 : BitVec 32) (v4021 : BitVec 32) (k0_hw492 : k0_chk492 i v13 v4021), ∀ (k0_h5 : k0_cond5 i v13 = 1#1), ∀ a, (k0_off1232 v4021) a + S1x128.size a ≤ S8192x128.size a := fun i v13 v4021 k0_hw492 k0_h5 => k0_hw492.2.2 k0_h5

def k0_off1233 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c233_i32 : BitVec 32 := 233#32
  let v4036 : BitVec 32 := Scalar.addi v74 c233_i32
  let v4037 : Index := Scalar.indexCast v4036
  ![v4037.toNat]
def k0_mult490 (v4038 : BitVec 32) : BitVec 32 :=
  let c3_i32_1693 : BitVec 32 := 3#32
  let v4039 : BitVec 32 := Scalar.shrsi v4038 c3_i32_1693
  let c8191_i32_1694 : BitVec 32 := 8191#32
  let v4040 : BitVec 32 := Scalar.andi v4039 c8191_i32_1694
  let c8_i32_1695 : BitVec 32 := 8#32
  let v4041 : BitVec 32 := Scalar.muli v4040 c8_i32_1695
  v4041

def k0_off1234 (v4038 : BitVec 32) : Fin 2 → Nat :=
  let c3_i32_1693 : BitVec 32 := 3#32
  let v4039 : BitVec 32 := Scalar.shrsi v4038 c3_i32_1693
  let c8191_i32_1694 : BitVec 32 := 8191#32
  let v4040 : BitVec 32 := Scalar.andi v4039 c8191_i32_1694
  let c8_i32_1695 : BitVec 32 := 8#32
  let v4041 : BitVec 32 := Scalar.muli v4040 c8_i32_1695
  let v4042 : BitVec 32 := v4041
  let v4043 : Index := Scalar.indexCast v4042
  let c0_1696 : Index := 0#32
  ![v4043.toNat, 0]
def k0_off1235 (v4038 : BitVec 32) : Fin 2 → Nat :=
  let c3_i32_1693 : BitVec 32 := 3#32
  let v4039 : BitVec 32 := Scalar.shrsi v4038 c3_i32_1693
  let c8191_i32_1694 : BitVec 32 := 8191#32
  let v4040 : BitVec 32 := Scalar.andi v4039 c8191_i32_1694
  let v4048 : Index := Scalar.indexCast v4040
  let c0_1698 : Index := 0#32
  ![v4048.toNat, 0]

def k0_chk493 (i : grid0.Coords) (v13 : BitVec 32) (v4038 : BitVec 32) : Prop :=
  (∀ (k0_h5 : k0_cond5 i v13 = 1#1), 8 ∣ (k0_mult490 v4038).toNat) ∧
  (∀ (k0_h5 : k0_cond5 i v13 = 1#1), ∀ a, (k0_off1234 v4038) a + S8x128.size a ≤ S65536x128.size a) ∧
  (∀ (k0_h5 : k0_cond5 i v13 = 1#1), ∀ a, (k0_off1235 v4038) a + S1x128.size a ≤ S8192x128.size a)
theorem k0_mult490_dvd : ∀ (i : grid0.Coords) (v13 : BitVec 32) (v4038 : BitVec 32) (k0_hw493 : k0_chk493 i v13 v4038), ∀ (k0_h5 : k0_cond5 i v13 = 1#1), 8 ∣ (k0_mult490 v4038).toNat := fun i v13 v4038 k0_hw493 k0_h5 => k0_hw493.1 k0_h5
theorem k0_off1234_inb : ∀ (i : grid0.Coords) (v13 : BitVec 32) (v4038 : BitVec 32) (k0_hw493 : k0_chk493 i v13 v4038), ∀ (k0_h5 : k0_cond5 i v13 = 1#1), ∀ a, (k0_off1234 v4038) a + S8x128.size a ≤ S65536x128.size a := fun i v13 v4038 k0_hw493 k0_h5 => k0_hw493.2.1 k0_h5
theorem k0_off1235_inb : ∀ (i : grid0.Coords) (v13 : BitVec 32) (v4038 : BitVec 32) (k0_hw493 : k0_chk493 i v13 v4038), ∀ (k0_h5 : k0_cond5 i v13 = 1#1), ∀ a, (k0_off1235 v4038) a + S1x128.size a ≤ S8192x128.size a := fun i v13 v4038 k0_hw493 k0_h5 => k0_hw493.2.2 k0_h5

def k0_off1236 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c234_i32 : BitVec 32 := 234#32
  let v4053 : BitVec 32 := Scalar.addi v74 c234_i32
  let v4054 : Index := Scalar.indexCast v4053
  ![v4054.toNat]
def k0_mult491 (v4055 : BitVec 32) : BitVec 32 :=
  let c3_i32_1700 : BitVec 32 := 3#32
  let v4056 : BitVec 32 := Scalar.shrsi v4055 c3_i32_1700
  let c8191_i32_1701 : BitVec 32 := 8191#32
  let v4057 : BitVec 32 := Scalar.andi v4056 c8191_i32_1701
  let c8_i32_1702 : BitVec 32 := 8#32
  let v4058 : BitVec 32 := Scalar.muli v4057 c8_i32_1702
  v4058

def k0_off1237 (v4055 : BitVec 32) : Fin 2 → Nat :=
  let c3_i32_1700 : BitVec 32 := 3#32
  let v4056 : BitVec 32 := Scalar.shrsi v4055 c3_i32_1700
  let c8191_i32_1701 : BitVec 32 := 8191#32
  let v4057 : BitVec 32 := Scalar.andi v4056 c8191_i32_1701
  let c8_i32_1702 : BitVec 32 := 8#32
  let v4058 : BitVec 32 := Scalar.muli v4057 c8_i32_1702
  let v4059 : BitVec 32 := v4058
  let v4060 : Index := Scalar.indexCast v4059
  let c0_1703 : Index := 0#32
  ![v4060.toNat, 0]
def k0_off1238 (v4055 : BitVec 32) : Fin 2 → Nat :=
  let c3_i32_1700 : BitVec 32 := 3#32
  let v4056 : BitVec 32 := Scalar.shrsi v4055 c3_i32_1700
  let c8191_i32_1701 : BitVec 32 := 8191#32
  let v4057 : BitVec 32 := Scalar.andi v4056 c8191_i32_1701
  let v4065 : Index := Scalar.indexCast v4057
  let c0_1705 : Index := 0#32
  ![v4065.toNat, 0]

def k0_chk494 (i : grid0.Coords) (v13 : BitVec 32) (v4055 : BitVec 32) : Prop :=
  (∀ (k0_h5 : k0_cond5 i v13 = 1#1), 8 ∣ (k0_mult491 v4055).toNat) ∧
  (∀ (k0_h5 : k0_cond5 i v13 = 1#1), ∀ a, (k0_off1237 v4055) a + S8x128.size a ≤ S65536x128.size a) ∧
  (∀ (k0_h5 : k0_cond5 i v13 = 1#1), ∀ a, (k0_off1238 v4055) a + S1x128.size a ≤ S8192x128.size a)
theorem k0_mult491_dvd : ∀ (i : grid0.Coords) (v13 : BitVec 32) (v4055 : BitVec 32) (k0_hw494 : k0_chk494 i v13 v4055), ∀ (k0_h5 : k0_cond5 i v13 = 1#1), 8 ∣ (k0_mult491 v4055).toNat := fun i v13 v4055 k0_hw494 k0_h5 => k0_hw494.1 k0_h5
theorem k0_off1237_inb : ∀ (i : grid0.Coords) (v13 : BitVec 32) (v4055 : BitVec 32) (k0_hw494 : k0_chk494 i v13 v4055), ∀ (k0_h5 : k0_cond5 i v13 = 1#1), ∀ a, (k0_off1237 v4055) a + S8x128.size a ≤ S65536x128.size a := fun i v13 v4055 k0_hw494 k0_h5 => k0_hw494.2.1 k0_h5
theorem k0_off1238_inb : ∀ (i : grid0.Coords) (v13 : BitVec 32) (v4055 : BitVec 32) (k0_hw494 : k0_chk494 i v13 v4055), ∀ (k0_h5 : k0_cond5 i v13 = 1#1), ∀ a, (k0_off1238 v4055) a + S1x128.size a ≤ S8192x128.size a := fun i v13 v4055 k0_hw494 k0_h5 => k0_hw494.2.2 k0_h5

def k0_off1239 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c235_i32 : BitVec 32 := 235#32
  let v4070 : BitVec 32 := Scalar.addi v74 c235_i32
  let v4071 : Index := Scalar.indexCast v4070
  ![v4071.toNat]
def k0_mult492 (v4072 : BitVec 32) : BitVec 32 :=
  let c3_i32_1707 : BitVec 32 := 3#32
  let v4073 : BitVec 32 := Scalar.shrsi v4072 c3_i32_1707
  let c8191_i32_1708 : BitVec 32 := 8191#32
  let v4074 : BitVec 32 := Scalar.andi v4073 c8191_i32_1708
  let c8_i32_1709 : BitVec 32 := 8#32
  let v4075 : BitVec 32 := Scalar.muli v4074 c8_i32_1709
  v4075

def k0_off1240 (v4072 : BitVec 32) : Fin 2 → Nat :=
  let c3_i32_1707 : BitVec 32 := 3#32
  let v4073 : BitVec 32 := Scalar.shrsi v4072 c3_i32_1707
  let c8191_i32_1708 : BitVec 32 := 8191#32
  let v4074 : BitVec 32 := Scalar.andi v4073 c8191_i32_1708
  let c8_i32_1709 : BitVec 32 := 8#32
  let v4075 : BitVec 32 := Scalar.muli v4074 c8_i32_1709
  let v4076 : BitVec 32 := v4075
  let v4077 : Index := Scalar.indexCast v4076
  let c0_1710 : Index := 0#32
  ![v4077.toNat, 0]
def k0_off1241 (v4072 : BitVec 32) : Fin 2 → Nat :=
  let c3_i32_1707 : BitVec 32 := 3#32
  let v4073 : BitVec 32 := Scalar.shrsi v4072 c3_i32_1707
  let c8191_i32_1708 : BitVec 32 := 8191#32
  let v4074 : BitVec 32 := Scalar.andi v4073 c8191_i32_1708
  let v4082 : Index := Scalar.indexCast v4074
  let c0_1712 : Index := 0#32
  ![v4082.toNat, 0]

def k0_chk495 (i : grid0.Coords) (v13 : BitVec 32) (v4072 : BitVec 32) : Prop :=
  (∀ (k0_h5 : k0_cond5 i v13 = 1#1), 8 ∣ (k0_mult492 v4072).toNat) ∧
  (∀ (k0_h5 : k0_cond5 i v13 = 1#1), ∀ a, (k0_off1240 v4072) a + S8x128.size a ≤ S65536x128.size a) ∧
  (∀ (k0_h5 : k0_cond5 i v13 = 1#1), ∀ a, (k0_off1241 v4072) a + S1x128.size a ≤ S8192x128.size a)
theorem k0_mult492_dvd : ∀ (i : grid0.Coords) (v13 : BitVec 32) (v4072 : BitVec 32) (k0_hw495 : k0_chk495 i v13 v4072), ∀ (k0_h5 : k0_cond5 i v13 = 1#1), 8 ∣ (k0_mult492 v4072).toNat := fun i v13 v4072 k0_hw495 k0_h5 => k0_hw495.1 k0_h5
theorem k0_off1240_inb : ∀ (i : grid0.Coords) (v13 : BitVec 32) (v4072 : BitVec 32) (k0_hw495 : k0_chk495 i v13 v4072), ∀ (k0_h5 : k0_cond5 i v13 = 1#1), ∀ a, (k0_off1240 v4072) a + S8x128.size a ≤ S65536x128.size a := fun i v13 v4072 k0_hw495 k0_h5 => k0_hw495.2.1 k0_h5
theorem k0_off1241_inb : ∀ (i : grid0.Coords) (v13 : BitVec 32) (v4072 : BitVec 32) (k0_hw495 : k0_chk495 i v13 v4072), ∀ (k0_h5 : k0_cond5 i v13 = 1#1), ∀ a, (k0_off1241 v4072) a + S1x128.size a ≤ S8192x128.size a := fun i v13 v4072 k0_hw495 k0_h5 => k0_hw495.2.2 k0_h5

def k0_off1242 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c236_i32 : BitVec 32 := 236#32
  let v4087 : BitVec 32 := Scalar.addi v74 c236_i32
  let v4088 : Index := Scalar.indexCast v4087
  ![v4088.toNat]
def k0_mult493 (v4089 : BitVec 32) : BitVec 32 :=
  let c3_i32_1714 : BitVec 32 := 3#32
  let v4090 : BitVec 32 := Scalar.shrsi v4089 c3_i32_1714
  let c8191_i32_1715 : BitVec 32 := 8191#32
  let v4091 : BitVec 32 := Scalar.andi v4090 c8191_i32_1715
  let c8_i32_1716 : BitVec 32 := 8#32
  let v4092 : BitVec 32 := Scalar.muli v4091 c8_i32_1716
  v4092

def k0_off1243 (v4089 : BitVec 32) : Fin 2 → Nat :=
  let c3_i32_1714 : BitVec 32 := 3#32
  let v4090 : BitVec 32 := Scalar.shrsi v4089 c3_i32_1714
  let c8191_i32_1715 : BitVec 32 := 8191#32
  let v4091 : BitVec 32 := Scalar.andi v4090 c8191_i32_1715
  let c8_i32_1716 : BitVec 32 := 8#32
  let v4092 : BitVec 32 := Scalar.muli v4091 c8_i32_1716
  let v4093 : BitVec 32 := v4092
  let v4094 : Index := Scalar.indexCast v4093
  let c0_1717 : Index := 0#32
  ![v4094.toNat, 0]
def k0_off1244 (v4089 : BitVec 32) : Fin 2 → Nat :=
  let c3_i32_1714 : BitVec 32 := 3#32
  let v4090 : BitVec 32 := Scalar.shrsi v4089 c3_i32_1714
  let c8191_i32_1715 : BitVec 32 := 8191#32
  let v4091 : BitVec 32 := Scalar.andi v4090 c8191_i32_1715
  let v4099 : Index := Scalar.indexCast v4091
  let c0_1719 : Index := 0#32
  ![v4099.toNat, 0]

def k0_chk496 (i : grid0.Coords) (v13 : BitVec 32) (v4089 : BitVec 32) : Prop :=
  (∀ (k0_h5 : k0_cond5 i v13 = 1#1), 8 ∣ (k0_mult493 v4089).toNat) ∧
  (∀ (k0_h5 : k0_cond5 i v13 = 1#1), ∀ a, (k0_off1243 v4089) a + S8x128.size a ≤ S65536x128.size a) ∧
  (∀ (k0_h5 : k0_cond5 i v13 = 1#1), ∀ a, (k0_off1244 v4089) a + S1x128.size a ≤ S8192x128.size a)
theorem k0_mult493_dvd : ∀ (i : grid0.Coords) (v13 : BitVec 32) (v4089 : BitVec 32) (k0_hw496 : k0_chk496 i v13 v4089), ∀ (k0_h5 : k0_cond5 i v13 = 1#1), 8 ∣ (k0_mult493 v4089).toNat := fun i v13 v4089 k0_hw496 k0_h5 => k0_hw496.1 k0_h5
theorem k0_off1243_inb : ∀ (i : grid0.Coords) (v13 : BitVec 32) (v4089 : BitVec 32) (k0_hw496 : k0_chk496 i v13 v4089), ∀ (k0_h5 : k0_cond5 i v13 = 1#1), ∀ a, (k0_off1243 v4089) a + S8x128.size a ≤ S65536x128.size a := fun i v13 v4089 k0_hw496 k0_h5 => k0_hw496.2.1 k0_h5
theorem k0_off1244_inb : ∀ (i : grid0.Coords) (v13 : BitVec 32) (v4089 : BitVec 32) (k0_hw496 : k0_chk496 i v13 v4089), ∀ (k0_h5 : k0_cond5 i v13 = 1#1), ∀ a, (k0_off1244 v4089) a + S1x128.size a ≤ S8192x128.size a := fun i v13 v4089 k0_hw496 k0_h5 => k0_hw496.2.2 k0_h5

def k0_off1245 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c237_i32 : BitVec 32 := 237#32
  let v4104 : BitVec 32 := Scalar.addi v74 c237_i32
  let v4105 : Index := Scalar.indexCast v4104
  ![v4105.toNat]
def k0_mult494 (v4106 : BitVec 32) : BitVec 32 :=
  let c3_i32_1721 : BitVec 32 := 3#32
  let v4107 : BitVec 32 := Scalar.shrsi v4106 c3_i32_1721
  let c8191_i32_1722 : BitVec 32 := 8191#32
  let v4108 : BitVec 32 := Scalar.andi v4107 c8191_i32_1722
  let c8_i32_1723 : BitVec 32 := 8#32
  let v4109 : BitVec 32 := Scalar.muli v4108 c8_i32_1723
  v4109

def k0_off1246 (v4106 : BitVec 32) : Fin 2 → Nat :=
  let c3_i32_1721 : BitVec 32 := 3#32
  let v4107 : BitVec 32 := Scalar.shrsi v4106 c3_i32_1721
  let c8191_i32_1722 : BitVec 32 := 8191#32
  let v4108 : BitVec 32 := Scalar.andi v4107 c8191_i32_1722
  let c8_i32_1723 : BitVec 32 := 8#32
  let v4109 : BitVec 32 := Scalar.muli v4108 c8_i32_1723
  let v4110 : BitVec 32 := v4109
  let v4111 : Index := Scalar.indexCast v4110
  let c0_1724 : Index := 0#32
  ![v4111.toNat, 0]
def k0_off1247 (v4106 : BitVec 32) : Fin 2 → Nat :=
  let c3_i32_1721 : BitVec 32 := 3#32
  let v4107 : BitVec 32 := Scalar.shrsi v4106 c3_i32_1721
  let c8191_i32_1722 : BitVec 32 := 8191#32
  let v4108 : BitVec 32 := Scalar.andi v4107 c8191_i32_1722
  let v4116 : Index := Scalar.indexCast v4108
  let c0_1726 : Index := 0#32
  ![v4116.toNat, 0]

def k0_chk497 (i : grid0.Coords) (v13 : BitVec 32) (v4106 : BitVec 32) : Prop :=
  (∀ (k0_h5 : k0_cond5 i v13 = 1#1), 8 ∣ (k0_mult494 v4106).toNat) ∧
  (∀ (k0_h5 : k0_cond5 i v13 = 1#1), ∀ a, (k0_off1246 v4106) a + S8x128.size a ≤ S65536x128.size a) ∧
  (∀ (k0_h5 : k0_cond5 i v13 = 1#1), ∀ a, (k0_off1247 v4106) a + S1x128.size a ≤ S8192x128.size a)
theorem k0_mult494_dvd : ∀ (i : grid0.Coords) (v13 : BitVec 32) (v4106 : BitVec 32) (k0_hw497 : k0_chk497 i v13 v4106), ∀ (k0_h5 : k0_cond5 i v13 = 1#1), 8 ∣ (k0_mult494 v4106).toNat := fun i v13 v4106 k0_hw497 k0_h5 => k0_hw497.1 k0_h5
theorem k0_off1246_inb : ∀ (i : grid0.Coords) (v13 : BitVec 32) (v4106 : BitVec 32) (k0_hw497 : k0_chk497 i v13 v4106), ∀ (k0_h5 : k0_cond5 i v13 = 1#1), ∀ a, (k0_off1246 v4106) a + S8x128.size a ≤ S65536x128.size a := fun i v13 v4106 k0_hw497 k0_h5 => k0_hw497.2.1 k0_h5
theorem k0_off1247_inb : ∀ (i : grid0.Coords) (v13 : BitVec 32) (v4106 : BitVec 32) (k0_hw497 : k0_chk497 i v13 v4106), ∀ (k0_h5 : k0_cond5 i v13 = 1#1), ∀ a, (k0_off1247 v4106) a + S1x128.size a ≤ S8192x128.size a := fun i v13 v4106 k0_hw497 k0_h5 => k0_hw497.2.2 k0_h5

def k0_off1248 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c238_i32 : BitVec 32 := 238#32
  let v4121 : BitVec 32 := Scalar.addi v74 c238_i32
  let v4122 : Index := Scalar.indexCast v4121
  ![v4122.toNat]
def k0_mult495 (v4123 : BitVec 32) : BitVec 32 :=
  let c3_i32_1728 : BitVec 32 := 3#32
  let v4124 : BitVec 32 := Scalar.shrsi v4123 c3_i32_1728
  let c8191_i32_1729 : BitVec 32 := 8191#32
  let v4125 : BitVec 32 := Scalar.andi v4124 c8191_i32_1729
  let c8_i32_1730 : BitVec 32 := 8#32
  let v4126 : BitVec 32 := Scalar.muli v4125 c8_i32_1730
  v4126

def k0_off1249 (v4123 : BitVec 32) : Fin 2 → Nat :=
  let c3_i32_1728 : BitVec 32 := 3#32
  let v4124 : BitVec 32 := Scalar.shrsi v4123 c3_i32_1728
  let c8191_i32_1729 : BitVec 32 := 8191#32
  let v4125 : BitVec 32 := Scalar.andi v4124 c8191_i32_1729
  let c8_i32_1730 : BitVec 32 := 8#32
  let v4126 : BitVec 32 := Scalar.muli v4125 c8_i32_1730
  let v4127 : BitVec 32 := v4126
  let v4128 : Index := Scalar.indexCast v4127
  let c0_1731 : Index := 0#32
  ![v4128.toNat, 0]
def k0_off1250 (v4123 : BitVec 32) : Fin 2 → Nat :=
  let c3_i32_1728 : BitVec 32 := 3#32
  let v4124 : BitVec 32 := Scalar.shrsi v4123 c3_i32_1728
  let c8191_i32_1729 : BitVec 32 := 8191#32
  let v4125 : BitVec 32 := Scalar.andi v4124 c8191_i32_1729
  let v4133 : Index := Scalar.indexCast v4125
  let c0_1733 : Index := 0#32
  ![v4133.toNat, 0]

def k0_chk498 (i : grid0.Coords) (v13 : BitVec 32) (v4123 : BitVec 32) : Prop :=
  (∀ (k0_h5 : k0_cond5 i v13 = 1#1), 8 ∣ (k0_mult495 v4123).toNat) ∧
  (∀ (k0_h5 : k0_cond5 i v13 = 1#1), ∀ a, (k0_off1249 v4123) a + S8x128.size a ≤ S65536x128.size a) ∧
  (∀ (k0_h5 : k0_cond5 i v13 = 1#1), ∀ a, (k0_off1250 v4123) a + S1x128.size a ≤ S8192x128.size a)
theorem k0_mult495_dvd : ∀ (i : grid0.Coords) (v13 : BitVec 32) (v4123 : BitVec 32) (k0_hw498 : k0_chk498 i v13 v4123), ∀ (k0_h5 : k0_cond5 i v13 = 1#1), 8 ∣ (k0_mult495 v4123).toNat := fun i v13 v4123 k0_hw498 k0_h5 => k0_hw498.1 k0_h5
theorem k0_off1249_inb : ∀ (i : grid0.Coords) (v13 : BitVec 32) (v4123 : BitVec 32) (k0_hw498 : k0_chk498 i v13 v4123), ∀ (k0_h5 : k0_cond5 i v13 = 1#1), ∀ a, (k0_off1249 v4123) a + S8x128.size a ≤ S65536x128.size a := fun i v13 v4123 k0_hw498 k0_h5 => k0_hw498.2.1 k0_h5
theorem k0_off1250_inb : ∀ (i : grid0.Coords) (v13 : BitVec 32) (v4123 : BitVec 32) (k0_hw498 : k0_chk498 i v13 v4123), ∀ (k0_h5 : k0_cond5 i v13 = 1#1), ∀ a, (k0_off1250 v4123) a + S1x128.size a ≤ S8192x128.size a := fun i v13 v4123 k0_hw498 k0_h5 => k0_hw498.2.2 k0_h5

def k0_off1251 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c239_i32 : BitVec 32 := 239#32
  let v4138 : BitVec 32 := Scalar.addi v74 c239_i32
  let v4139 : Index := Scalar.indexCast v4138
  ![v4139.toNat]
def k0_mult496 (v4140 : BitVec 32) : BitVec 32 :=
  let c3_i32_1735 : BitVec 32 := 3#32
  let v4141 : BitVec 32 := Scalar.shrsi v4140 c3_i32_1735
  let c8191_i32_1736 : BitVec 32 := 8191#32
  let v4142 : BitVec 32 := Scalar.andi v4141 c8191_i32_1736
  let c8_i32_1737 : BitVec 32 := 8#32
  let v4143 : BitVec 32 := Scalar.muli v4142 c8_i32_1737
  v4143

def k0_off1252 (v4140 : BitVec 32) : Fin 2 → Nat :=
  let c3_i32_1735 : BitVec 32 := 3#32
  let v4141 : BitVec 32 := Scalar.shrsi v4140 c3_i32_1735
  let c8191_i32_1736 : BitVec 32 := 8191#32
  let v4142 : BitVec 32 := Scalar.andi v4141 c8191_i32_1736
  let c8_i32_1737 : BitVec 32 := 8#32
  let v4143 : BitVec 32 := Scalar.muli v4142 c8_i32_1737
  let v4144 : BitVec 32 := v4143
  let v4145 : Index := Scalar.indexCast v4144
  let c0_1738 : Index := 0#32
  ![v4145.toNat, 0]
def k0_off1253 (v4140 : BitVec 32) : Fin 2 → Nat :=
  let c3_i32_1735 : BitVec 32 := 3#32
  let v4141 : BitVec 32 := Scalar.shrsi v4140 c3_i32_1735
  let c8191_i32_1736 : BitVec 32 := 8191#32
  let v4142 : BitVec 32 := Scalar.andi v4141 c8191_i32_1736
  let v4150 : Index := Scalar.indexCast v4142
  let c0_1740 : Index := 0#32
  ![v4150.toNat, 0]

def k0_chk499 (i : grid0.Coords) (v13 : BitVec 32) (v4140 : BitVec 32) : Prop :=
  (∀ (k0_h5 : k0_cond5 i v13 = 1#1), 8 ∣ (k0_mult496 v4140).toNat) ∧
  (∀ (k0_h5 : k0_cond5 i v13 = 1#1), ∀ a, (k0_off1252 v4140) a + S8x128.size a ≤ S65536x128.size a) ∧
  (∀ (k0_h5 : k0_cond5 i v13 = 1#1), ∀ a, (k0_off1253 v4140) a + S1x128.size a ≤ S8192x128.size a)
theorem k0_mult496_dvd : ∀ (i : grid0.Coords) (v13 : BitVec 32) (v4140 : BitVec 32) (k0_hw499 : k0_chk499 i v13 v4140), ∀ (k0_h5 : k0_cond5 i v13 = 1#1), 8 ∣ (k0_mult496 v4140).toNat := fun i v13 v4140 k0_hw499 k0_h5 => k0_hw499.1 k0_h5
theorem k0_off1252_inb : ∀ (i : grid0.Coords) (v13 : BitVec 32) (v4140 : BitVec 32) (k0_hw499 : k0_chk499 i v13 v4140), ∀ (k0_h5 : k0_cond5 i v13 = 1#1), ∀ a, (k0_off1252 v4140) a + S8x128.size a ≤ S65536x128.size a := fun i v13 v4140 k0_hw499 k0_h5 => k0_hw499.2.1 k0_h5
theorem k0_off1253_inb : ∀ (i : grid0.Coords) (v13 : BitVec 32) (v4140 : BitVec 32) (k0_hw499 : k0_chk499 i v13 v4140), ∀ (k0_h5 : k0_cond5 i v13 = 1#1), ∀ a, (k0_off1253 v4140) a + S1x128.size a ≤ S8192x128.size a := fun i v13 v4140 k0_hw499 k0_h5 => k0_hw499.2.2 k0_h5

def k0_off1254 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c240_i32 : BitVec 32 := 240#32
  let v4155 : BitVec 32 := Scalar.addi v74 c240_i32
  let v4156 : Index := Scalar.indexCast v4155
  ![v4156.toNat]
def k0_mult497 (v4157 : BitVec 32) : BitVec 32 :=
  let c3_i32_1742 : BitVec 32 := 3#32
  let v4158 : BitVec 32 := Scalar.shrsi v4157 c3_i32_1742
  let c8191_i32_1743 : BitVec 32 := 8191#32
  let v4159 : BitVec 32 := Scalar.andi v4158 c8191_i32_1743
  let c8_i32_1744 : BitVec 32 := 8#32
  let v4160 : BitVec 32 := Scalar.muli v4159 c8_i32_1744
  v4160

def k0_off1255 (v4157 : BitVec 32) : Fin 2 → Nat :=
  let c3_i32_1742 : BitVec 32 := 3#32
  let v4158 : BitVec 32 := Scalar.shrsi v4157 c3_i32_1742
  let c8191_i32_1743 : BitVec 32 := 8191#32
  let v4159 : BitVec 32 := Scalar.andi v4158 c8191_i32_1743
  let c8_i32_1744 : BitVec 32 := 8#32
  let v4160 : BitVec 32 := Scalar.muli v4159 c8_i32_1744
  let v4161 : BitVec 32 := v4160
  let v4162 : Index := Scalar.indexCast v4161
  let c0_1745 : Index := 0#32
  ![v4162.toNat, 0]
def k0_off1256 (v4157 : BitVec 32) : Fin 2 → Nat :=
  let c3_i32_1742 : BitVec 32 := 3#32
  let v4158 : BitVec 32 := Scalar.shrsi v4157 c3_i32_1742
  let c8191_i32_1743 : BitVec 32 := 8191#32
  let v4159 : BitVec 32 := Scalar.andi v4158 c8191_i32_1743
  let v4167 : Index := Scalar.indexCast v4159
  let c0_1747 : Index := 0#32
  ![v4167.toNat, 0]

def k0_chk500 (i : grid0.Coords) (v13 : BitVec 32) (v4157 : BitVec 32) : Prop :=
  (∀ (k0_h5 : k0_cond5 i v13 = 1#1), 8 ∣ (k0_mult497 v4157).toNat) ∧
  (∀ (k0_h5 : k0_cond5 i v13 = 1#1), ∀ a, (k0_off1255 v4157) a + S8x128.size a ≤ S65536x128.size a) ∧
  (∀ (k0_h5 : k0_cond5 i v13 = 1#1), ∀ a, (k0_off1256 v4157) a + S1x128.size a ≤ S8192x128.size a)
theorem k0_mult497_dvd : ∀ (i : grid0.Coords) (v13 : BitVec 32) (v4157 : BitVec 32) (k0_hw500 : k0_chk500 i v13 v4157), ∀ (k0_h5 : k0_cond5 i v13 = 1#1), 8 ∣ (k0_mult497 v4157).toNat := fun i v13 v4157 k0_hw500 k0_h5 => k0_hw500.1 k0_h5
theorem k0_off1255_inb : ∀ (i : grid0.Coords) (v13 : BitVec 32) (v4157 : BitVec 32) (k0_hw500 : k0_chk500 i v13 v4157), ∀ (k0_h5 : k0_cond5 i v13 = 1#1), ∀ a, (k0_off1255 v4157) a + S8x128.size a ≤ S65536x128.size a := fun i v13 v4157 k0_hw500 k0_h5 => k0_hw500.2.1 k0_h5
theorem k0_off1256_inb : ∀ (i : grid0.Coords) (v13 : BitVec 32) (v4157 : BitVec 32) (k0_hw500 : k0_chk500 i v13 v4157), ∀ (k0_h5 : k0_cond5 i v13 = 1#1), ∀ a, (k0_off1256 v4157) a + S1x128.size a ≤ S8192x128.size a := fun i v13 v4157 k0_hw500 k0_h5 => k0_hw500.2.2 k0_h5

def k0_off1257 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c241_i32 : BitVec 32 := 241#32
  let v4172 : BitVec 32 := Scalar.addi v74 c241_i32
  let v4173 : Index := Scalar.indexCast v4172
  ![v4173.toNat]
def k0_mult498 (v4174 : BitVec 32) : BitVec 32 :=
  let c3_i32_1750 : BitVec 32 := 3#32
  let v4175 : BitVec 32 := Scalar.shrsi v4174 c3_i32_1750
  let c8191_i32_1751 : BitVec 32 := 8191#32
  let v4176 : BitVec 32 := Scalar.andi v4175 c8191_i32_1751
  let c8_i32_1752 : BitVec 32 := 8#32
  let v4177 : BitVec 32 := Scalar.muli v4176 c8_i32_1752
  v4177

def k0_off1258 (v4174 : BitVec 32) : Fin 2 → Nat :=
  let c3_i32_1750 : BitVec 32 := 3#32
  let v4175 : BitVec 32 := Scalar.shrsi v4174 c3_i32_1750
  let c8191_i32_1751 : BitVec 32 := 8191#32
  let v4176 : BitVec 32 := Scalar.andi v4175 c8191_i32_1751
  let c8_i32_1752 : BitVec 32 := 8#32
  let v4177 : BitVec 32 := Scalar.muli v4176 c8_i32_1752
  let v4178 : BitVec 32 := v4177
  let v4179 : Index := Scalar.indexCast v4178
  let c0_1753 : Index := 0#32
  ![v4179.toNat, 0]
def k0_off1259 (v4174 : BitVec 32) : Fin 2 → Nat :=
  let c3_i32_1750 : BitVec 32 := 3#32
  let v4175 : BitVec 32 := Scalar.shrsi v4174 c3_i32_1750
  let c8191_i32_1751 : BitVec 32 := 8191#32
  let v4176 : BitVec 32 := Scalar.andi v4175 c8191_i32_1751
  let v4184 : Index := Scalar.indexCast v4176
  let c0_1755 : Index := 0#32
  ![v4184.toNat, 0]

def k0_chk501 (i : grid0.Coords) (v13 : BitVec 32) (v4174 : BitVec 32) : Prop :=
  (∀ (k0_h5 : k0_cond5 i v13 = 1#1), 8 ∣ (k0_mult498 v4174).toNat) ∧
  (∀ (k0_h5 : k0_cond5 i v13 = 1#1), ∀ a, (k0_off1258 v4174) a + S8x128.size a ≤ S65536x128.size a) ∧
  (∀ (k0_h5 : k0_cond5 i v13 = 1#1), ∀ a, (k0_off1259 v4174) a + S1x128.size a ≤ S8192x128.size a)
theorem k0_mult498_dvd : ∀ (i : grid0.Coords) (v13 : BitVec 32) (v4174 : BitVec 32) (k0_hw501 : k0_chk501 i v13 v4174), ∀ (k0_h5 : k0_cond5 i v13 = 1#1), 8 ∣ (k0_mult498 v4174).toNat := fun i v13 v4174 k0_hw501 k0_h5 => k0_hw501.1 k0_h5
theorem k0_off1258_inb : ∀ (i : grid0.Coords) (v13 : BitVec 32) (v4174 : BitVec 32) (k0_hw501 : k0_chk501 i v13 v4174), ∀ (k0_h5 : k0_cond5 i v13 = 1#1), ∀ a, (k0_off1258 v4174) a + S8x128.size a ≤ S65536x128.size a := fun i v13 v4174 k0_hw501 k0_h5 => k0_hw501.2.1 k0_h5
theorem k0_off1259_inb : ∀ (i : grid0.Coords) (v13 : BitVec 32) (v4174 : BitVec 32) (k0_hw501 : k0_chk501 i v13 v4174), ∀ (k0_h5 : k0_cond5 i v13 = 1#1), ∀ a, (k0_off1259 v4174) a + S1x128.size a ≤ S8192x128.size a := fun i v13 v4174 k0_hw501 k0_h5 => k0_hw501.2.2 k0_h5

def k0_off1260 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c242_i32 : BitVec 32 := 242#32
  let v4189 : BitVec 32 := Scalar.addi v74 c242_i32
  let v4190 : Index := Scalar.indexCast v4189
  ![v4190.toNat]
def k0_mult499 (v4191 : BitVec 32) : BitVec 32 :=
  let c3_i32_1757 : BitVec 32 := 3#32
  let v4192 : BitVec 32 := Scalar.shrsi v4191 c3_i32_1757
  let c8191_i32_1758 : BitVec 32 := 8191#32
  let v4193 : BitVec 32 := Scalar.andi v4192 c8191_i32_1758
  let c8_i32_1759 : BitVec 32 := 8#32
  let v4194 : BitVec 32 := Scalar.muli v4193 c8_i32_1759
  v4194

def k0_off1261 (v4191 : BitVec 32) : Fin 2 → Nat :=
  let c3_i32_1757 : BitVec 32 := 3#32
  let v4192 : BitVec 32 := Scalar.shrsi v4191 c3_i32_1757
  let c8191_i32_1758 : BitVec 32 := 8191#32
  let v4193 : BitVec 32 := Scalar.andi v4192 c8191_i32_1758
  let c8_i32_1759 : BitVec 32 := 8#32
  let v4194 : BitVec 32 := Scalar.muli v4193 c8_i32_1759
  let v4195 : BitVec 32 := v4194
  let v4196 : Index := Scalar.indexCast v4195
  let c0_1760 : Index := 0#32
  ![v4196.toNat, 0]
def k0_off1262 (v4191 : BitVec 32) : Fin 2 → Nat :=
  let c3_i32_1757 : BitVec 32 := 3#32
  let v4192 : BitVec 32 := Scalar.shrsi v4191 c3_i32_1757
  let c8191_i32_1758 : BitVec 32 := 8191#32
  let v4193 : BitVec 32 := Scalar.andi v4192 c8191_i32_1758
  let v4201 : Index := Scalar.indexCast v4193
  let c0_1762 : Index := 0#32
  ![v4201.toNat, 0]

def k0_chk502 (i : grid0.Coords) (v13 : BitVec 32) (v4191 : BitVec 32) : Prop :=
  (∀ (k0_h5 : k0_cond5 i v13 = 1#1), 8 ∣ (k0_mult499 v4191).toNat) ∧
  (∀ (k0_h5 : k0_cond5 i v13 = 1#1), ∀ a, (k0_off1261 v4191) a + S8x128.size a ≤ S65536x128.size a) ∧
  (∀ (k0_h5 : k0_cond5 i v13 = 1#1), ∀ a, (k0_off1262 v4191) a + S1x128.size a ≤ S8192x128.size a)
theorem k0_mult499_dvd : ∀ (i : grid0.Coords) (v13 : BitVec 32) (v4191 : BitVec 32) (k0_hw502 : k0_chk502 i v13 v4191), ∀ (k0_h5 : k0_cond5 i v13 = 1#1), 8 ∣ (k0_mult499 v4191).toNat := fun i v13 v4191 k0_hw502 k0_h5 => k0_hw502.1 k0_h5
theorem k0_off1261_inb : ∀ (i : grid0.Coords) (v13 : BitVec 32) (v4191 : BitVec 32) (k0_hw502 : k0_chk502 i v13 v4191), ∀ (k0_h5 : k0_cond5 i v13 = 1#1), ∀ a, (k0_off1261 v4191) a + S8x128.size a ≤ S65536x128.size a := fun i v13 v4191 k0_hw502 k0_h5 => k0_hw502.2.1 k0_h5
theorem k0_off1262_inb : ∀ (i : grid0.Coords) (v13 : BitVec 32) (v4191 : BitVec 32) (k0_hw502 : k0_chk502 i v13 v4191), ∀ (k0_h5 : k0_cond5 i v13 = 1#1), ∀ a, (k0_off1262 v4191) a + S1x128.size a ≤ S8192x128.size a := fun i v13 v4191 k0_hw502 k0_h5 => k0_hw502.2.2 k0_h5

def k0_off1263 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c243_i32 : BitVec 32 := 243#32
  let v4206 : BitVec 32 := Scalar.addi v74 c243_i32
  let v4207 : Index := Scalar.indexCast v4206
  ![v4207.toNat]
def k0_mult500 (v4208 : BitVec 32) : BitVec 32 :=
  let c3_i32_1764 : BitVec 32 := 3#32
  let v4209 : BitVec 32 := Scalar.shrsi v4208 c3_i32_1764
  let c8191_i32_1765 : BitVec 32 := 8191#32
  let v4210 : BitVec 32 := Scalar.andi v4209 c8191_i32_1765
  let c8_i32_1766 : BitVec 32 := 8#32
  let v4211 : BitVec 32 := Scalar.muli v4210 c8_i32_1766
  v4211

def k0_off1264 (v4208 : BitVec 32) : Fin 2 → Nat :=
  let c3_i32_1764 : BitVec 32 := 3#32
  let v4209 : BitVec 32 := Scalar.shrsi v4208 c3_i32_1764
  let c8191_i32_1765 : BitVec 32 := 8191#32
  let v4210 : BitVec 32 := Scalar.andi v4209 c8191_i32_1765
  let c8_i32_1766 : BitVec 32 := 8#32
  let v4211 : BitVec 32 := Scalar.muli v4210 c8_i32_1766
  let v4212 : BitVec 32 := v4211
  let v4213 : Index := Scalar.indexCast v4212
  let c0_1767 : Index := 0#32
  ![v4213.toNat, 0]
def k0_off1265 (v4208 : BitVec 32) : Fin 2 → Nat :=
  let c3_i32_1764 : BitVec 32 := 3#32
  let v4209 : BitVec 32 := Scalar.shrsi v4208 c3_i32_1764
  let c8191_i32_1765 : BitVec 32 := 8191#32
  let v4210 : BitVec 32 := Scalar.andi v4209 c8191_i32_1765
  let v4218 : Index := Scalar.indexCast v4210
  let c0_1769 : Index := 0#32
  ![v4218.toNat, 0]

def k0_chk503 (i : grid0.Coords) (v13 : BitVec 32) (v4208 : BitVec 32) : Prop :=
  (∀ (k0_h5 : k0_cond5 i v13 = 1#1), 8 ∣ (k0_mult500 v4208).toNat) ∧
  (∀ (k0_h5 : k0_cond5 i v13 = 1#1), ∀ a, (k0_off1264 v4208) a + S8x128.size a ≤ S65536x128.size a) ∧
  (∀ (k0_h5 : k0_cond5 i v13 = 1#1), ∀ a, (k0_off1265 v4208) a + S1x128.size a ≤ S8192x128.size a)
theorem k0_mult500_dvd : ∀ (i : grid0.Coords) (v13 : BitVec 32) (v4208 : BitVec 32) (k0_hw503 : k0_chk503 i v13 v4208), ∀ (k0_h5 : k0_cond5 i v13 = 1#1), 8 ∣ (k0_mult500 v4208).toNat := fun i v13 v4208 k0_hw503 k0_h5 => k0_hw503.1 k0_h5
theorem k0_off1264_inb : ∀ (i : grid0.Coords) (v13 : BitVec 32) (v4208 : BitVec 32) (k0_hw503 : k0_chk503 i v13 v4208), ∀ (k0_h5 : k0_cond5 i v13 = 1#1), ∀ a, (k0_off1264 v4208) a + S8x128.size a ≤ S65536x128.size a := fun i v13 v4208 k0_hw503 k0_h5 => k0_hw503.2.1 k0_h5
theorem k0_off1265_inb : ∀ (i : grid0.Coords) (v13 : BitVec 32) (v4208 : BitVec 32) (k0_hw503 : k0_chk503 i v13 v4208), ∀ (k0_h5 : k0_cond5 i v13 = 1#1), ∀ a, (k0_off1265 v4208) a + S1x128.size a ≤ S8192x128.size a := fun i v13 v4208 k0_hw503 k0_h5 => k0_hw503.2.2 k0_h5

def k0_off1266 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c244_i32 : BitVec 32 := 244#32
  let v4223 : BitVec 32 := Scalar.addi v74 c244_i32
  let v4224 : Index := Scalar.indexCast v4223
  ![v4224.toNat]
def k0_mult501 (v4225 : BitVec 32) : BitVec 32 :=
  let c3_i32_1771 : BitVec 32 := 3#32
  let v4226 : BitVec 32 := Scalar.shrsi v4225 c3_i32_1771
  let c8191_i32_1772 : BitVec 32 := 8191#32
  let v4227 : BitVec 32 := Scalar.andi v4226 c8191_i32_1772
  let c8_i32_1773 : BitVec 32 := 8#32
  let v4228 : BitVec 32 := Scalar.muli v4227 c8_i32_1773
  v4228

def k0_off1267 (v4225 : BitVec 32) : Fin 2 → Nat :=
  let c3_i32_1771 : BitVec 32 := 3#32
  let v4226 : BitVec 32 := Scalar.shrsi v4225 c3_i32_1771
  let c8191_i32_1772 : BitVec 32 := 8191#32
  let v4227 : BitVec 32 := Scalar.andi v4226 c8191_i32_1772
  let c8_i32_1773 : BitVec 32 := 8#32
  let v4228 : BitVec 32 := Scalar.muli v4227 c8_i32_1773
  let v4229 : BitVec 32 := v4228
  let v4230 : Index := Scalar.indexCast v4229
  let c0_1774 : Index := 0#32
  ![v4230.toNat, 0]
def k0_off1268 (v4225 : BitVec 32) : Fin 2 → Nat :=
  let c3_i32_1771 : BitVec 32 := 3#32
  let v4226 : BitVec 32 := Scalar.shrsi v4225 c3_i32_1771
  let c8191_i32_1772 : BitVec 32 := 8191#32
  let v4227 : BitVec 32 := Scalar.andi v4226 c8191_i32_1772
  let v4235 : Index := Scalar.indexCast v4227
  let c0_1776 : Index := 0#32
  ![v4235.toNat, 0]

def k0_chk504 (i : grid0.Coords) (v13 : BitVec 32) (v4225 : BitVec 32) : Prop :=
  (∀ (k0_h5 : k0_cond5 i v13 = 1#1), 8 ∣ (k0_mult501 v4225).toNat) ∧
  (∀ (k0_h5 : k0_cond5 i v13 = 1#1), ∀ a, (k0_off1267 v4225) a + S8x128.size a ≤ S65536x128.size a) ∧
  (∀ (k0_h5 : k0_cond5 i v13 = 1#1), ∀ a, (k0_off1268 v4225) a + S1x128.size a ≤ S8192x128.size a)
theorem k0_mult501_dvd : ∀ (i : grid0.Coords) (v13 : BitVec 32) (v4225 : BitVec 32) (k0_hw504 : k0_chk504 i v13 v4225), ∀ (k0_h5 : k0_cond5 i v13 = 1#1), 8 ∣ (k0_mult501 v4225).toNat := fun i v13 v4225 k0_hw504 k0_h5 => k0_hw504.1 k0_h5
theorem k0_off1267_inb : ∀ (i : grid0.Coords) (v13 : BitVec 32) (v4225 : BitVec 32) (k0_hw504 : k0_chk504 i v13 v4225), ∀ (k0_h5 : k0_cond5 i v13 = 1#1), ∀ a, (k0_off1267 v4225) a + S8x128.size a ≤ S65536x128.size a := fun i v13 v4225 k0_hw504 k0_h5 => k0_hw504.2.1 k0_h5
theorem k0_off1268_inb : ∀ (i : grid0.Coords) (v13 : BitVec 32) (v4225 : BitVec 32) (k0_hw504 : k0_chk504 i v13 v4225), ∀ (k0_h5 : k0_cond5 i v13 = 1#1), ∀ a, (k0_off1268 v4225) a + S1x128.size a ≤ S8192x128.size a := fun i v13 v4225 k0_hw504 k0_h5 => k0_hw504.2.2 k0_h5

def k0_off1269 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c245_i32 : BitVec 32 := 245#32
  let v4240 : BitVec 32 := Scalar.addi v74 c245_i32
  let v4241 : Index := Scalar.indexCast v4240
  ![v4241.toNat]
def k0_mult502 (v4242 : BitVec 32) : BitVec 32 :=
  let c3_i32_1778 : BitVec 32 := 3#32
  let v4243 : BitVec 32 := Scalar.shrsi v4242 c3_i32_1778
  let c8191_i32_1779 : BitVec 32 := 8191#32
  let v4244 : BitVec 32 := Scalar.andi v4243 c8191_i32_1779
  let c8_i32_1780 : BitVec 32 := 8#32
  let v4245 : BitVec 32 := Scalar.muli v4244 c8_i32_1780
  v4245

def k0_off1270 (v4242 : BitVec 32) : Fin 2 → Nat :=
  let c3_i32_1778 : BitVec 32 := 3#32
  let v4243 : BitVec 32 := Scalar.shrsi v4242 c3_i32_1778
  let c8191_i32_1779 : BitVec 32 := 8191#32
  let v4244 : BitVec 32 := Scalar.andi v4243 c8191_i32_1779
  let c8_i32_1780 : BitVec 32 := 8#32
  let v4245 : BitVec 32 := Scalar.muli v4244 c8_i32_1780
  let v4246 : BitVec 32 := v4245
  let v4247 : Index := Scalar.indexCast v4246
  let c0_1781 : Index := 0#32
  ![v4247.toNat, 0]
def k0_off1271 (v4242 : BitVec 32) : Fin 2 → Nat :=
  let c3_i32_1778 : BitVec 32 := 3#32
  let v4243 : BitVec 32 := Scalar.shrsi v4242 c3_i32_1778
  let c8191_i32_1779 : BitVec 32 := 8191#32
  let v4244 : BitVec 32 := Scalar.andi v4243 c8191_i32_1779
  let v4252 : Index := Scalar.indexCast v4244
  let c0_1783 : Index := 0#32
  ![v4252.toNat, 0]

def k0_chk505 (i : grid0.Coords) (v13 : BitVec 32) (v4242 : BitVec 32) : Prop :=
  (∀ (k0_h5 : k0_cond5 i v13 = 1#1), 8 ∣ (k0_mult502 v4242).toNat) ∧
  (∀ (k0_h5 : k0_cond5 i v13 = 1#1), ∀ a, (k0_off1270 v4242) a + S8x128.size a ≤ S65536x128.size a) ∧
  (∀ (k0_h5 : k0_cond5 i v13 = 1#1), ∀ a, (k0_off1271 v4242) a + S1x128.size a ≤ S8192x128.size a)
theorem k0_mult502_dvd : ∀ (i : grid0.Coords) (v13 : BitVec 32) (v4242 : BitVec 32) (k0_hw505 : k0_chk505 i v13 v4242), ∀ (k0_h5 : k0_cond5 i v13 = 1#1), 8 ∣ (k0_mult502 v4242).toNat := fun i v13 v4242 k0_hw505 k0_h5 => k0_hw505.1 k0_h5
theorem k0_off1270_inb : ∀ (i : grid0.Coords) (v13 : BitVec 32) (v4242 : BitVec 32) (k0_hw505 : k0_chk505 i v13 v4242), ∀ (k0_h5 : k0_cond5 i v13 = 1#1), ∀ a, (k0_off1270 v4242) a + S8x128.size a ≤ S65536x128.size a := fun i v13 v4242 k0_hw505 k0_h5 => k0_hw505.2.1 k0_h5
theorem k0_off1271_inb : ∀ (i : grid0.Coords) (v13 : BitVec 32) (v4242 : BitVec 32) (k0_hw505 : k0_chk505 i v13 v4242), ∀ (k0_h5 : k0_cond5 i v13 = 1#1), ∀ a, (k0_off1271 v4242) a + S1x128.size a ≤ S8192x128.size a := fun i v13 v4242 k0_hw505 k0_h5 => k0_hw505.2.2 k0_h5

def k0_off1272 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c246_i32 : BitVec 32 := 246#32
  let v4257 : BitVec 32 := Scalar.addi v74 c246_i32
  let v4258 : Index := Scalar.indexCast v4257
  ![v4258.toNat]
def k0_mult503 (v4259 : BitVec 32) : BitVec 32 :=
  let c3_i32_1785 : BitVec 32 := 3#32
  let v4260 : BitVec 32 := Scalar.shrsi v4259 c3_i32_1785
  let c8191_i32_1786 : BitVec 32 := 8191#32
  let v4261 : BitVec 32 := Scalar.andi v4260 c8191_i32_1786
  let c8_i32_1787 : BitVec 32 := 8#32
  let v4262 : BitVec 32 := Scalar.muli v4261 c8_i32_1787
  v4262

def k0_off1273 (v4259 : BitVec 32) : Fin 2 → Nat :=
  let c3_i32_1785 : BitVec 32 := 3#32
  let v4260 : BitVec 32 := Scalar.shrsi v4259 c3_i32_1785
  let c8191_i32_1786 : BitVec 32 := 8191#32
  let v4261 : BitVec 32 := Scalar.andi v4260 c8191_i32_1786
  let c8_i32_1787 : BitVec 32 := 8#32
  let v4262 : BitVec 32 := Scalar.muli v4261 c8_i32_1787
  let v4263 : BitVec 32 := v4262
  let v4264 : Index := Scalar.indexCast v4263
  let c0_1788 : Index := 0#32
  ![v4264.toNat, 0]
def k0_off1274 (v4259 : BitVec 32) : Fin 2 → Nat :=
  let c3_i32_1785 : BitVec 32 := 3#32
  let v4260 : BitVec 32 := Scalar.shrsi v4259 c3_i32_1785
  let c8191_i32_1786 : BitVec 32 := 8191#32
  let v4261 : BitVec 32 := Scalar.andi v4260 c8191_i32_1786
  let v4269 : Index := Scalar.indexCast v4261
  let c0_1790 : Index := 0#32
  ![v4269.toNat, 0]

def k0_chk506 (i : grid0.Coords) (v13 : BitVec 32) (v4259 : BitVec 32) : Prop :=
  (∀ (k0_h5 : k0_cond5 i v13 = 1#1), 8 ∣ (k0_mult503 v4259).toNat) ∧
  (∀ (k0_h5 : k0_cond5 i v13 = 1#1), ∀ a, (k0_off1273 v4259) a + S8x128.size a ≤ S65536x128.size a) ∧
  (∀ (k0_h5 : k0_cond5 i v13 = 1#1), ∀ a, (k0_off1274 v4259) a + S1x128.size a ≤ S8192x128.size a)
theorem k0_mult503_dvd : ∀ (i : grid0.Coords) (v13 : BitVec 32) (v4259 : BitVec 32) (k0_hw506 : k0_chk506 i v13 v4259), ∀ (k0_h5 : k0_cond5 i v13 = 1#1), 8 ∣ (k0_mult503 v4259).toNat := fun i v13 v4259 k0_hw506 k0_h5 => k0_hw506.1 k0_h5
theorem k0_off1273_inb : ∀ (i : grid0.Coords) (v13 : BitVec 32) (v4259 : BitVec 32) (k0_hw506 : k0_chk506 i v13 v4259), ∀ (k0_h5 : k0_cond5 i v13 = 1#1), ∀ a, (k0_off1273 v4259) a + S8x128.size a ≤ S65536x128.size a := fun i v13 v4259 k0_hw506 k0_h5 => k0_hw506.2.1 k0_h5
theorem k0_off1274_inb : ∀ (i : grid0.Coords) (v13 : BitVec 32) (v4259 : BitVec 32) (k0_hw506 : k0_chk506 i v13 v4259), ∀ (k0_h5 : k0_cond5 i v13 = 1#1), ∀ a, (k0_off1274 v4259) a + S1x128.size a ≤ S8192x128.size a := fun i v13 v4259 k0_hw506 k0_h5 => k0_hw506.2.2 k0_h5

def k0_off1275 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c247_i32 : BitVec 32 := 247#32
  let v4274 : BitVec 32 := Scalar.addi v74 c247_i32
  let v4275 : Index := Scalar.indexCast v4274
  ![v4275.toNat]
def k0_mult504 (v4276 : BitVec 32) : BitVec 32 :=
  let c3_i32_1792 : BitVec 32 := 3#32
  let v4277 : BitVec 32 := Scalar.shrsi v4276 c3_i32_1792
  let c8191_i32_1793 : BitVec 32 := 8191#32
  let v4278 : BitVec 32 := Scalar.andi v4277 c8191_i32_1793
  let c8_i32_1794 : BitVec 32 := 8#32
  let v4279 : BitVec 32 := Scalar.muli v4278 c8_i32_1794
  v4279

def k0_off1276 (v4276 : BitVec 32) : Fin 2 → Nat :=
  let c3_i32_1792 : BitVec 32 := 3#32
  let v4277 : BitVec 32 := Scalar.shrsi v4276 c3_i32_1792
  let c8191_i32_1793 : BitVec 32 := 8191#32
  let v4278 : BitVec 32 := Scalar.andi v4277 c8191_i32_1793
  let c8_i32_1794 : BitVec 32 := 8#32
  let v4279 : BitVec 32 := Scalar.muli v4278 c8_i32_1794
  let v4280 : BitVec 32 := v4279
  let v4281 : Index := Scalar.indexCast v4280
  let c0_1795 : Index := 0#32
  ![v4281.toNat, 0]
def k0_off1277 (v4276 : BitVec 32) : Fin 2 → Nat :=
  let c3_i32_1792 : BitVec 32 := 3#32
  let v4277 : BitVec 32 := Scalar.shrsi v4276 c3_i32_1792
  let c8191_i32_1793 : BitVec 32 := 8191#32
  let v4278 : BitVec 32 := Scalar.andi v4277 c8191_i32_1793
  let v4286 : Index := Scalar.indexCast v4278
  let c0_1797 : Index := 0#32
  ![v4286.toNat, 0]

def k0_chk507 (i : grid0.Coords) (v13 : BitVec 32) (v4276 : BitVec 32) : Prop :=
  (∀ (k0_h5 : k0_cond5 i v13 = 1#1), 8 ∣ (k0_mult504 v4276).toNat) ∧
  (∀ (k0_h5 : k0_cond5 i v13 = 1#1), ∀ a, (k0_off1276 v4276) a + S8x128.size a ≤ S65536x128.size a) ∧
  (∀ (k0_h5 : k0_cond5 i v13 = 1#1), ∀ a, (k0_off1277 v4276) a + S1x128.size a ≤ S8192x128.size a)
theorem k0_mult504_dvd : ∀ (i : grid0.Coords) (v13 : BitVec 32) (v4276 : BitVec 32) (k0_hw507 : k0_chk507 i v13 v4276), ∀ (k0_h5 : k0_cond5 i v13 = 1#1), 8 ∣ (k0_mult504 v4276).toNat := fun i v13 v4276 k0_hw507 k0_h5 => k0_hw507.1 k0_h5
theorem k0_off1276_inb : ∀ (i : grid0.Coords) (v13 : BitVec 32) (v4276 : BitVec 32) (k0_hw507 : k0_chk507 i v13 v4276), ∀ (k0_h5 : k0_cond5 i v13 = 1#1), ∀ a, (k0_off1276 v4276) a + S8x128.size a ≤ S65536x128.size a := fun i v13 v4276 k0_hw507 k0_h5 => k0_hw507.2.1 k0_h5
theorem k0_off1277_inb : ∀ (i : grid0.Coords) (v13 : BitVec 32) (v4276 : BitVec 32) (k0_hw507 : k0_chk507 i v13 v4276), ∀ (k0_h5 : k0_cond5 i v13 = 1#1), ∀ a, (k0_off1277 v4276) a + S1x128.size a ≤ S8192x128.size a := fun i v13 v4276 k0_hw507 k0_h5 => k0_hw507.2.2 k0_h5

def k0_off1278 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c248_i32 : BitVec 32 := 248#32
  let v4291 : BitVec 32 := Scalar.addi v74 c248_i32
  let v4292 : Index := Scalar.indexCast v4291
  ![v4292.toNat]
def k0_mult505 (v4293 : BitVec 32) : BitVec 32 :=
  let c3_i32_1799 : BitVec 32 := 3#32
  let v4294 : BitVec 32 := Scalar.shrsi v4293 c3_i32_1799
  let c8191_i32_1800 : BitVec 32 := 8191#32
  let v4295 : BitVec 32 := Scalar.andi v4294 c8191_i32_1800
  let c8_i32_1801 : BitVec 32 := 8#32
  let v4296 : BitVec 32 := Scalar.muli v4295 c8_i32_1801
  v4296

def k0_off1279 (v4293 : BitVec 32) : Fin 2 → Nat :=
  let c3_i32_1799 : BitVec 32 := 3#32
  let v4294 : BitVec 32 := Scalar.shrsi v4293 c3_i32_1799
  let c8191_i32_1800 : BitVec 32 := 8191#32
  let v4295 : BitVec 32 := Scalar.andi v4294 c8191_i32_1800
  let c8_i32_1801 : BitVec 32 := 8#32
  let v4296 : BitVec 32 := Scalar.muli v4295 c8_i32_1801
  let v4297 : BitVec 32 := v4296
  let v4298 : Index := Scalar.indexCast v4297
  let c0_1802 : Index := 0#32
  ![v4298.toNat, 0]
def k0_off1280 (v4293 : BitVec 32) : Fin 2 → Nat :=
  let c3_i32_1799 : BitVec 32 := 3#32
  let v4294 : BitVec 32 := Scalar.shrsi v4293 c3_i32_1799
  let c8191_i32_1800 : BitVec 32 := 8191#32
  let v4295 : BitVec 32 := Scalar.andi v4294 c8191_i32_1800
  let v4303 : Index := Scalar.indexCast v4295
  let c0_1804 : Index := 0#32
  ![v4303.toNat, 0]

def k0_chk508 (i : grid0.Coords) (v13 : BitVec 32) (v4293 : BitVec 32) : Prop :=
  (∀ (k0_h5 : k0_cond5 i v13 = 1#1), 8 ∣ (k0_mult505 v4293).toNat) ∧
  (∀ (k0_h5 : k0_cond5 i v13 = 1#1), ∀ a, (k0_off1279 v4293) a + S8x128.size a ≤ S65536x128.size a) ∧
  (∀ (k0_h5 : k0_cond5 i v13 = 1#1), ∀ a, (k0_off1280 v4293) a + S1x128.size a ≤ S8192x128.size a)
theorem k0_mult505_dvd : ∀ (i : grid0.Coords) (v13 : BitVec 32) (v4293 : BitVec 32) (k0_hw508 : k0_chk508 i v13 v4293), ∀ (k0_h5 : k0_cond5 i v13 = 1#1), 8 ∣ (k0_mult505 v4293).toNat := fun i v13 v4293 k0_hw508 k0_h5 => k0_hw508.1 k0_h5
theorem k0_off1279_inb : ∀ (i : grid0.Coords) (v13 : BitVec 32) (v4293 : BitVec 32) (k0_hw508 : k0_chk508 i v13 v4293), ∀ (k0_h5 : k0_cond5 i v13 = 1#1), ∀ a, (k0_off1279 v4293) a + S8x128.size a ≤ S65536x128.size a := fun i v13 v4293 k0_hw508 k0_h5 => k0_hw508.2.1 k0_h5
theorem k0_off1280_inb : ∀ (i : grid0.Coords) (v13 : BitVec 32) (v4293 : BitVec 32) (k0_hw508 : k0_chk508 i v13 v4293), ∀ (k0_h5 : k0_cond5 i v13 = 1#1), ∀ a, (k0_off1280 v4293) a + S1x128.size a ≤ S8192x128.size a := fun i v13 v4293 k0_hw508 k0_h5 => k0_hw508.2.2 k0_h5

def k0_off1281 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c249_i32 : BitVec 32 := 249#32
  let v4308 : BitVec 32 := Scalar.addi v74 c249_i32
  let v4309 : Index := Scalar.indexCast v4308
  ![v4309.toNat]
def k0_mult506 (v4310 : BitVec 32) : BitVec 32 :=
  let c3_i32_1807 : BitVec 32 := 3#32
  let v4311 : BitVec 32 := Scalar.shrsi v4310 c3_i32_1807
  let c8191_i32_1808 : BitVec 32 := 8191#32
  let v4312 : BitVec 32 := Scalar.andi v4311 c8191_i32_1808
  let c8_i32_1809 : BitVec 32 := 8#32
  let v4313 : BitVec 32 := Scalar.muli v4312 c8_i32_1809
  v4313

def k0_off1282 (v4310 : BitVec 32) : Fin 2 → Nat :=
  let c3_i32_1807 : BitVec 32 := 3#32
  let v4311 : BitVec 32 := Scalar.shrsi v4310 c3_i32_1807
  let c8191_i32_1808 : BitVec 32 := 8191#32
  let v4312 : BitVec 32 := Scalar.andi v4311 c8191_i32_1808
  let c8_i32_1809 : BitVec 32 := 8#32
  let v4313 : BitVec 32 := Scalar.muli v4312 c8_i32_1809
  let v4314 : BitVec 32 := v4313
  let v4315 : Index := Scalar.indexCast v4314
  let c0_1810 : Index := 0#32
  ![v4315.toNat, 0]
def k0_off1283 (v4310 : BitVec 32) : Fin 2 → Nat :=
  let c3_i32_1807 : BitVec 32 := 3#32
  let v4311 : BitVec 32 := Scalar.shrsi v4310 c3_i32_1807
  let c8191_i32_1808 : BitVec 32 := 8191#32
  let v4312 : BitVec 32 := Scalar.andi v4311 c8191_i32_1808
  let v4320 : Index := Scalar.indexCast v4312
  let c0_1812 : Index := 0#32
  ![v4320.toNat, 0]

def k0_chk509 (i : grid0.Coords) (v13 : BitVec 32) (v4310 : BitVec 32) : Prop :=
  (∀ (k0_h5 : k0_cond5 i v13 = 1#1), 8 ∣ (k0_mult506 v4310).toNat) ∧
  (∀ (k0_h5 : k0_cond5 i v13 = 1#1), ∀ a, (k0_off1282 v4310) a + S8x128.size a ≤ S65536x128.size a) ∧
  (∀ (k0_h5 : k0_cond5 i v13 = 1#1), ∀ a, (k0_off1283 v4310) a + S1x128.size a ≤ S8192x128.size a)
theorem k0_mult506_dvd : ∀ (i : grid0.Coords) (v13 : BitVec 32) (v4310 : BitVec 32) (k0_hw509 : k0_chk509 i v13 v4310), ∀ (k0_h5 : k0_cond5 i v13 = 1#1), 8 ∣ (k0_mult506 v4310).toNat := fun i v13 v4310 k0_hw509 k0_h5 => k0_hw509.1 k0_h5
theorem k0_off1282_inb : ∀ (i : grid0.Coords) (v13 : BitVec 32) (v4310 : BitVec 32) (k0_hw509 : k0_chk509 i v13 v4310), ∀ (k0_h5 : k0_cond5 i v13 = 1#1), ∀ a, (k0_off1282 v4310) a + S8x128.size a ≤ S65536x128.size a := fun i v13 v4310 k0_hw509 k0_h5 => k0_hw509.2.1 k0_h5
theorem k0_off1283_inb : ∀ (i : grid0.Coords) (v13 : BitVec 32) (v4310 : BitVec 32) (k0_hw509 : k0_chk509 i v13 v4310), ∀ (k0_h5 : k0_cond5 i v13 = 1#1), ∀ a, (k0_off1283 v4310) a + S1x128.size a ≤ S8192x128.size a := fun i v13 v4310 k0_hw509 k0_h5 => k0_hw509.2.2 k0_h5

def k0_off1284 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c250_i32 : BitVec 32 := 250#32
  let v4325 : BitVec 32 := Scalar.addi v74 c250_i32
  let v4326 : Index := Scalar.indexCast v4325
  ![v4326.toNat]
def k0_mult507 (v4327 : BitVec 32) : BitVec 32 :=
  let c3_i32_1814 : BitVec 32 := 3#32
  let v4328 : BitVec 32 := Scalar.shrsi v4327 c3_i32_1814
  let c8191_i32_1815 : BitVec 32 := 8191#32
  let v4329 : BitVec 32 := Scalar.andi v4328 c8191_i32_1815
  let c8_i32_1816 : BitVec 32 := 8#32
  let v4330 : BitVec 32 := Scalar.muli v4329 c8_i32_1816
  v4330

def k0_off1285 (v4327 : BitVec 32) : Fin 2 → Nat :=
  let c3_i32_1814 : BitVec 32 := 3#32
  let v4328 : BitVec 32 := Scalar.shrsi v4327 c3_i32_1814
  let c8191_i32_1815 : BitVec 32 := 8191#32
  let v4329 : BitVec 32 := Scalar.andi v4328 c8191_i32_1815
  let c8_i32_1816 : BitVec 32 := 8#32
  let v4330 : BitVec 32 := Scalar.muli v4329 c8_i32_1816
  let v4331 : BitVec 32 := v4330
  let v4332 : Index := Scalar.indexCast v4331
  let c0_1817 : Index := 0#32
  ![v4332.toNat, 0]
def k0_off1286 (v4327 : BitVec 32) : Fin 2 → Nat :=
  let c3_i32_1814 : BitVec 32 := 3#32
  let v4328 : BitVec 32 := Scalar.shrsi v4327 c3_i32_1814
  let c8191_i32_1815 : BitVec 32 := 8191#32
  let v4329 : BitVec 32 := Scalar.andi v4328 c8191_i32_1815
  let v4337 : Index := Scalar.indexCast v4329
  let c0_1819 : Index := 0#32
  ![v4337.toNat, 0]

def k0_chk510 (i : grid0.Coords) (v13 : BitVec 32) (v4327 : BitVec 32) : Prop :=
  (∀ (k0_h5 : k0_cond5 i v13 = 1#1), 8 ∣ (k0_mult507 v4327).toNat) ∧
  (∀ (k0_h5 : k0_cond5 i v13 = 1#1), ∀ a, (k0_off1285 v4327) a + S8x128.size a ≤ S65536x128.size a) ∧
  (∀ (k0_h5 : k0_cond5 i v13 = 1#1), ∀ a, (k0_off1286 v4327) a + S1x128.size a ≤ S8192x128.size a)
theorem k0_mult507_dvd : ∀ (i : grid0.Coords) (v13 : BitVec 32) (v4327 : BitVec 32) (k0_hw510 : k0_chk510 i v13 v4327), ∀ (k0_h5 : k0_cond5 i v13 = 1#1), 8 ∣ (k0_mult507 v4327).toNat := fun i v13 v4327 k0_hw510 k0_h5 => k0_hw510.1 k0_h5
theorem k0_off1285_inb : ∀ (i : grid0.Coords) (v13 : BitVec 32) (v4327 : BitVec 32) (k0_hw510 : k0_chk510 i v13 v4327), ∀ (k0_h5 : k0_cond5 i v13 = 1#1), ∀ a, (k0_off1285 v4327) a + S8x128.size a ≤ S65536x128.size a := fun i v13 v4327 k0_hw510 k0_h5 => k0_hw510.2.1 k0_h5
theorem k0_off1286_inb : ∀ (i : grid0.Coords) (v13 : BitVec 32) (v4327 : BitVec 32) (k0_hw510 : k0_chk510 i v13 v4327), ∀ (k0_h5 : k0_cond5 i v13 = 1#1), ∀ a, (k0_off1286 v4327) a + S1x128.size a ≤ S8192x128.size a := fun i v13 v4327 k0_hw510 k0_h5 => k0_hw510.2.2 k0_h5

def k0_off1287 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c251_i32 : BitVec 32 := 251#32
  let v4342 : BitVec 32 := Scalar.addi v74 c251_i32
  let v4343 : Index := Scalar.indexCast v4342
  ![v4343.toNat]
def k0_mult508 (v4344 : BitVec 32) : BitVec 32 :=
  let c3_i32_1821 : BitVec 32 := 3#32
  let v4345 : BitVec 32 := Scalar.shrsi v4344 c3_i32_1821
  let c8191_i32_1822 : BitVec 32 := 8191#32
  let v4346 : BitVec 32 := Scalar.andi v4345 c8191_i32_1822
  let c8_i32_1823 : BitVec 32 := 8#32
  let v4347 : BitVec 32 := Scalar.muli v4346 c8_i32_1823
  v4347

def k0_off1288 (v4344 : BitVec 32) : Fin 2 → Nat :=
  let c3_i32_1821 : BitVec 32 := 3#32
  let v4345 : BitVec 32 := Scalar.shrsi v4344 c3_i32_1821
  let c8191_i32_1822 : BitVec 32 := 8191#32
  let v4346 : BitVec 32 := Scalar.andi v4345 c8191_i32_1822
  let c8_i32_1823 : BitVec 32 := 8#32
  let v4347 : BitVec 32 := Scalar.muli v4346 c8_i32_1823
  let v4348 : BitVec 32 := v4347
  let v4349 : Index := Scalar.indexCast v4348
  let c0_1824 : Index := 0#32
  ![v4349.toNat, 0]
def k0_off1289 (v4344 : BitVec 32) : Fin 2 → Nat :=
  let c3_i32_1821 : BitVec 32 := 3#32
  let v4345 : BitVec 32 := Scalar.shrsi v4344 c3_i32_1821
  let c8191_i32_1822 : BitVec 32 := 8191#32
  let v4346 : BitVec 32 := Scalar.andi v4345 c8191_i32_1822
  let v4354 : Index := Scalar.indexCast v4346
  let c0_1826 : Index := 0#32
  ![v4354.toNat, 0]

def k0_chk511 (i : grid0.Coords) (v13 : BitVec 32) (v4344 : BitVec 32) : Prop :=
  (∀ (k0_h5 : k0_cond5 i v13 = 1#1), 8 ∣ (k0_mult508 v4344).toNat) ∧
  (∀ (k0_h5 : k0_cond5 i v13 = 1#1), ∀ a, (k0_off1288 v4344) a + S8x128.size a ≤ S65536x128.size a) ∧
  (∀ (k0_h5 : k0_cond5 i v13 = 1#1), ∀ a, (k0_off1289 v4344) a + S1x128.size a ≤ S8192x128.size a)
theorem k0_mult508_dvd : ∀ (i : grid0.Coords) (v13 : BitVec 32) (v4344 : BitVec 32) (k0_hw511 : k0_chk511 i v13 v4344), ∀ (k0_h5 : k0_cond5 i v13 = 1#1), 8 ∣ (k0_mult508 v4344).toNat := fun i v13 v4344 k0_hw511 k0_h5 => k0_hw511.1 k0_h5
theorem k0_off1288_inb : ∀ (i : grid0.Coords) (v13 : BitVec 32) (v4344 : BitVec 32) (k0_hw511 : k0_chk511 i v13 v4344), ∀ (k0_h5 : k0_cond5 i v13 = 1#1), ∀ a, (k0_off1288 v4344) a + S8x128.size a ≤ S65536x128.size a := fun i v13 v4344 k0_hw511 k0_h5 => k0_hw511.2.1 k0_h5
theorem k0_off1289_inb : ∀ (i : grid0.Coords) (v13 : BitVec 32) (v4344 : BitVec 32) (k0_hw511 : k0_chk511 i v13 v4344), ∀ (k0_h5 : k0_cond5 i v13 = 1#1), ∀ a, (k0_off1289 v4344) a + S1x128.size a ≤ S8192x128.size a := fun i v13 v4344 k0_hw511 k0_h5 => k0_hw511.2.2 k0_h5

def k0_off1290 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c252_i32 : BitVec 32 := 252#32
  let v4359 : BitVec 32 := Scalar.addi v74 c252_i32
  let v4360 : Index := Scalar.indexCast v4359
  ![v4360.toNat]
def k0_mult509 (v4361 : BitVec 32) : BitVec 32 :=
  let c3_i32_1828 : BitVec 32 := 3#32
  let v4362 : BitVec 32 := Scalar.shrsi v4361 c3_i32_1828
  let c8191_i32_1829 : BitVec 32 := 8191#32
  let v4363 : BitVec 32 := Scalar.andi v4362 c8191_i32_1829
  let c8_i32_1830 : BitVec 32 := 8#32
  let v4364 : BitVec 32 := Scalar.muli v4363 c8_i32_1830
  v4364

def k0_off1291 (v4361 : BitVec 32) : Fin 2 → Nat :=
  let c3_i32_1828 : BitVec 32 := 3#32
  let v4362 : BitVec 32 := Scalar.shrsi v4361 c3_i32_1828
  let c8191_i32_1829 : BitVec 32 := 8191#32
  let v4363 : BitVec 32 := Scalar.andi v4362 c8191_i32_1829
  let c8_i32_1830 : BitVec 32 := 8#32
  let v4364 : BitVec 32 := Scalar.muli v4363 c8_i32_1830
  let v4365 : BitVec 32 := v4364
  let v4366 : Index := Scalar.indexCast v4365
  let c0_1831 : Index := 0#32
  ![v4366.toNat, 0]
def k0_off1292 (v4361 : BitVec 32) : Fin 2 → Nat :=
  let c3_i32_1828 : BitVec 32 := 3#32
  let v4362 : BitVec 32 := Scalar.shrsi v4361 c3_i32_1828
  let c8191_i32_1829 : BitVec 32 := 8191#32
  let v4363 : BitVec 32 := Scalar.andi v4362 c8191_i32_1829
  let v4371 : Index := Scalar.indexCast v4363
  let c0_1833 : Index := 0#32
  ![v4371.toNat, 0]

def k0_chk512 (i : grid0.Coords) (v13 : BitVec 32) (v4361 : BitVec 32) : Prop :=
  (∀ (k0_h5 : k0_cond5 i v13 = 1#1), 8 ∣ (k0_mult509 v4361).toNat) ∧
  (∀ (k0_h5 : k0_cond5 i v13 = 1#1), ∀ a, (k0_off1291 v4361) a + S8x128.size a ≤ S65536x128.size a) ∧
  (∀ (k0_h5 : k0_cond5 i v13 = 1#1), ∀ a, (k0_off1292 v4361) a + S1x128.size a ≤ S8192x128.size a)
theorem k0_mult509_dvd : ∀ (i : grid0.Coords) (v13 : BitVec 32) (v4361 : BitVec 32) (k0_hw512 : k0_chk512 i v13 v4361), ∀ (k0_h5 : k0_cond5 i v13 = 1#1), 8 ∣ (k0_mult509 v4361).toNat := fun i v13 v4361 k0_hw512 k0_h5 => k0_hw512.1 k0_h5
theorem k0_off1291_inb : ∀ (i : grid0.Coords) (v13 : BitVec 32) (v4361 : BitVec 32) (k0_hw512 : k0_chk512 i v13 v4361), ∀ (k0_h5 : k0_cond5 i v13 = 1#1), ∀ a, (k0_off1291 v4361) a + S8x128.size a ≤ S65536x128.size a := fun i v13 v4361 k0_hw512 k0_h5 => k0_hw512.2.1 k0_h5
theorem k0_off1292_inb : ∀ (i : grid0.Coords) (v13 : BitVec 32) (v4361 : BitVec 32) (k0_hw512 : k0_chk512 i v13 v4361), ∀ (k0_h5 : k0_cond5 i v13 = 1#1), ∀ a, (k0_off1292 v4361) a + S1x128.size a ≤ S8192x128.size a := fun i v13 v4361 k0_hw512 k0_h5 => k0_hw512.2.2 k0_h5

def k0_off1293 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c253_i32 : BitVec 32 := 253#32
  let v4376 : BitVec 32 := Scalar.addi v74 c253_i32
  let v4377 : Index := Scalar.indexCast v4376
  ![v4377.toNat]
def k0_mult510 (v4378 : BitVec 32) : BitVec 32 :=
  let c3_i32_1835 : BitVec 32 := 3#32
  let v4379 : BitVec 32 := Scalar.shrsi v4378 c3_i32_1835
  let c8191_i32_1836 : BitVec 32 := 8191#32
  let v4380 : BitVec 32 := Scalar.andi v4379 c8191_i32_1836
  let c8_i32_1837 : BitVec 32 := 8#32
  let v4381 : BitVec 32 := Scalar.muli v4380 c8_i32_1837
  v4381

def k0_off1294 (v4378 : BitVec 32) : Fin 2 → Nat :=
  let c3_i32_1835 : BitVec 32 := 3#32
  let v4379 : BitVec 32 := Scalar.shrsi v4378 c3_i32_1835
  let c8191_i32_1836 : BitVec 32 := 8191#32
  let v4380 : BitVec 32 := Scalar.andi v4379 c8191_i32_1836
  let c8_i32_1837 : BitVec 32 := 8#32
  let v4381 : BitVec 32 := Scalar.muli v4380 c8_i32_1837
  let v4382 : BitVec 32 := v4381
  let v4383 : Index := Scalar.indexCast v4382
  let c0_1838 : Index := 0#32
  ![v4383.toNat, 0]
def k0_off1295 (v4378 : BitVec 32) : Fin 2 → Nat :=
  let c3_i32_1835 : BitVec 32 := 3#32
  let v4379 : BitVec 32 := Scalar.shrsi v4378 c3_i32_1835
  let c8191_i32_1836 : BitVec 32 := 8191#32
  let v4380 : BitVec 32 := Scalar.andi v4379 c8191_i32_1836
  let v4388 : Index := Scalar.indexCast v4380
  let c0_1840 : Index := 0#32
  ![v4388.toNat, 0]

def k0_chk513 (i : grid0.Coords) (v13 : BitVec 32) (v4378 : BitVec 32) : Prop :=
  (∀ (k0_h5 : k0_cond5 i v13 = 1#1), 8 ∣ (k0_mult510 v4378).toNat) ∧
  (∀ (k0_h5 : k0_cond5 i v13 = 1#1), ∀ a, (k0_off1294 v4378) a + S8x128.size a ≤ S65536x128.size a) ∧
  (∀ (k0_h5 : k0_cond5 i v13 = 1#1), ∀ a, (k0_off1295 v4378) a + S1x128.size a ≤ S8192x128.size a)
theorem k0_mult510_dvd : ∀ (i : grid0.Coords) (v13 : BitVec 32) (v4378 : BitVec 32) (k0_hw513 : k0_chk513 i v13 v4378), ∀ (k0_h5 : k0_cond5 i v13 = 1#1), 8 ∣ (k0_mult510 v4378).toNat := fun i v13 v4378 k0_hw513 k0_h5 => k0_hw513.1 k0_h5
theorem k0_off1294_inb : ∀ (i : grid0.Coords) (v13 : BitVec 32) (v4378 : BitVec 32) (k0_hw513 : k0_chk513 i v13 v4378), ∀ (k0_h5 : k0_cond5 i v13 = 1#1), ∀ a, (k0_off1294 v4378) a + S8x128.size a ≤ S65536x128.size a := fun i v13 v4378 k0_hw513 k0_h5 => k0_hw513.2.1 k0_h5
theorem k0_off1295_inb : ∀ (i : grid0.Coords) (v13 : BitVec 32) (v4378 : BitVec 32) (k0_hw513 : k0_chk513 i v13 v4378), ∀ (k0_h5 : k0_cond5 i v13 = 1#1), ∀ a, (k0_off1295 v4378) a + S1x128.size a ≤ S8192x128.size a := fun i v13 v4378 k0_hw513 k0_h5 => k0_hw513.2.2 k0_h5

def k0_off1296 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c254_i32 : BitVec 32 := 254#32
  let v4393 : BitVec 32 := Scalar.addi v74 c254_i32
  let v4394 : Index := Scalar.indexCast v4393
  ![v4394.toNat]
def k0_mult511 (v4395 : BitVec 32) : BitVec 32 :=
  let c3_i32_1842 : BitVec 32 := 3#32
  let v4396 : BitVec 32 := Scalar.shrsi v4395 c3_i32_1842
  let c8191_i32_1843 : BitVec 32 := 8191#32
  let v4397 : BitVec 32 := Scalar.andi v4396 c8191_i32_1843
  let c8_i32_1844 : BitVec 32 := 8#32
  let v4398 : BitVec 32 := Scalar.muli v4397 c8_i32_1844
  v4398

def k0_off1297 (v4395 : BitVec 32) : Fin 2 → Nat :=
  let c3_i32_1842 : BitVec 32 := 3#32
  let v4396 : BitVec 32 := Scalar.shrsi v4395 c3_i32_1842
  let c8191_i32_1843 : BitVec 32 := 8191#32
  let v4397 : BitVec 32 := Scalar.andi v4396 c8191_i32_1843
  let c8_i32_1844 : BitVec 32 := 8#32
  let v4398 : BitVec 32 := Scalar.muli v4397 c8_i32_1844
  let v4399 : BitVec 32 := v4398
  let v4400 : Index := Scalar.indexCast v4399
  let c0_1845 : Index := 0#32
  ![v4400.toNat, 0]
def k0_off1298 (v4395 : BitVec 32) : Fin 2 → Nat :=
  let c3_i32_1842 : BitVec 32 := 3#32
  let v4396 : BitVec 32 := Scalar.shrsi v4395 c3_i32_1842
  let c8191_i32_1843 : BitVec 32 := 8191#32
  let v4397 : BitVec 32 := Scalar.andi v4396 c8191_i32_1843
  let v4405 : Index := Scalar.indexCast v4397
  let c0_1847 : Index := 0#32
  ![v4405.toNat, 0]

def k0_chk514 (i : grid0.Coords) (v13 : BitVec 32) (v4395 : BitVec 32) : Prop :=
  (∀ (k0_h5 : k0_cond5 i v13 = 1#1), 8 ∣ (k0_mult511 v4395).toNat) ∧
  (∀ (k0_h5 : k0_cond5 i v13 = 1#1), ∀ a, (k0_off1297 v4395) a + S8x128.size a ≤ S65536x128.size a) ∧
  (∀ (k0_h5 : k0_cond5 i v13 = 1#1), ∀ a, (k0_off1298 v4395) a + S1x128.size a ≤ S8192x128.size a)
theorem k0_mult511_dvd : ∀ (i : grid0.Coords) (v13 : BitVec 32) (v4395 : BitVec 32) (k0_hw514 : k0_chk514 i v13 v4395), ∀ (k0_h5 : k0_cond5 i v13 = 1#1), 8 ∣ (k0_mult511 v4395).toNat := fun i v13 v4395 k0_hw514 k0_h5 => k0_hw514.1 k0_h5
theorem k0_off1297_inb : ∀ (i : grid0.Coords) (v13 : BitVec 32) (v4395 : BitVec 32) (k0_hw514 : k0_chk514 i v13 v4395), ∀ (k0_h5 : k0_cond5 i v13 = 1#1), ∀ a, (k0_off1297 v4395) a + S8x128.size a ≤ S65536x128.size a := fun i v13 v4395 k0_hw514 k0_h5 => k0_hw514.2.1 k0_h5
theorem k0_off1298_inb : ∀ (i : grid0.Coords) (v13 : BitVec 32) (v4395 : BitVec 32) (k0_hw514 : k0_chk514 i v13 v4395), ∀ (k0_h5 : k0_cond5 i v13 = 1#1), ∀ a, (k0_off1298 v4395) a + S1x128.size a ≤ S8192x128.size a := fun i v13 v4395 k0_hw514 k0_h5 => k0_hw514.2.2 k0_h5

def k0_off1299 (i : grid0.Coords) : Fin 1 → Nat :=
  let c2_i32 : BitVec 32 := 2#32
  let arg0 : BitVec 32 := BitVec.ofNat 32 (i 0).val
  let v3 : BitVec 32 := Scalar.muli c2_i32 arg0
  let c1_i32_25 : BitVec 32 := 1#32
  let v72 : BitVec 32 := Scalar.addi v3 c1_i32_25
  let c319_i32_26 : BitVec 32 := 319#32
  let v73 : BitVec 32 := Scalar.minsi v72 c319_i32_26
  let c256_i32 : BitVec 32 := 256#32
  let v74 : BitVec 32 := Scalar.muli v73 c256_i32
  let c255_i32 : BitVec 32 := 255#32
  let v4410 : BitVec 32 := Scalar.addi v74 c255_i32
  let v4411 : Index := Scalar.indexCast v4410
  ![v4411.toNat]
def k0_mult512 (v4412 : BitVec 32) : BitVec 32 :=
  let c3_i32_1849 : BitVec 32 := 3#32
  let v4413 : BitVec 32 := Scalar.shrsi v4412 c3_i32_1849
  let c8191_i32_1850 : BitVec 32 := 8191#32
  let v4414 : BitVec 32 := Scalar.andi v4413 c8191_i32_1850
  let c8_i32_1851 : BitVec 32 := 8#32
  let v4415 : BitVec 32 := Scalar.muli v4414 c8_i32_1851
  v4415

def k0_off1300 (v4412 : BitVec 32) : Fin 2 → Nat :=
  let c3_i32_1849 : BitVec 32 := 3#32
  let v4413 : BitVec 32 := Scalar.shrsi v4412 c3_i32_1849
  let c8191_i32_1850 : BitVec 32 := 8191#32
  let v4414 : BitVec 32 := Scalar.andi v4413 c8191_i32_1850
  let c8_i32_1851 : BitVec 32 := 8#32
  let v4415 : BitVec 32 := Scalar.muli v4414 c8_i32_1851
  let v4416 : BitVec 32 := v4415
  let v4417 : Index := Scalar.indexCast v4416
  let c0_1852 : Index := 0#32
  ![v4417.toNat, 0]
def k0_off1301 (v4412 : BitVec 32) : Fin 2 → Nat :=
  let c3_i32_1849 : BitVec 32 := 3#32
  let v4413 : BitVec 32 := Scalar.shrsi v4412 c3_i32_1849
  let c8191_i32_1850 : BitVec 32 := 8191#32
  let v4414 : BitVec 32 := Scalar.andi v4413 c8191_i32_1850
  let v4422 : Index := Scalar.indexCast v4414
  let c0_1854 : Index := 0#32
  ![v4422.toNat, 0]

def k0_chk515 (i : grid0.Coords) (v13 : BitVec 32) (v4412 : BitVec 32) : Prop :=
  (∀ (k0_h5 : k0_cond5 i v13 = 1#1), 8 ∣ (k0_mult512 v4412).toNat) ∧
  (∀ (k0_h5 : k0_cond5 i v13 = 1#1), ∀ a, (k0_off1300 v4412) a + S8x128.size a ≤ S65536x128.size a) ∧
  (∀ (k0_h5 : k0_cond5 i v13 = 1#1), ∀ a, (k0_off1301 v4412) a + S1x128.size a ≤ S8192x128.size a)
theorem k0_mult512_dvd : ∀ (i : grid0.Coords) (v13 : BitVec 32) (v4412 : BitVec 32) (k0_hw515 : k0_chk515 i v13 v4412), ∀ (k0_h5 : k0_cond5 i v13 = 1#1), 8 ∣ (k0_mult512 v4412).toNat := fun i v13 v4412 k0_hw515 k0_h5 => k0_hw515.1 k0_h5
theorem k0_off1300_inb : ∀ (i : grid0.Coords) (v13 : BitVec 32) (v4412 : BitVec 32) (k0_hw515 : k0_chk515 i v13 v4412), ∀ (k0_h5 : k0_cond5 i v13 = 1#1), ∀ a, (k0_off1300 v4412) a + S8x128.size a ≤ S65536x128.size a := fun i v13 v4412 k0_hw515 k0_h5 => k0_hw515.2.1 k0_h5
theorem k0_off1301_inb : ∀ (i : grid0.Coords) (v13 : BitVec 32) (v4412 : BitVec 32) (k0_hw515 : k0_chk515 i v13 v4412), ∀ (k0_h5 : k0_cond5 i v13 = 1#1), ∀ a, (k0_off1301 v4412) a + S1x128.size a ≤ S8192x128.size a := fun i v13 v4412 k0_hw515 k0_h5 => k0_hw515.2.2 k0_h5

def k0_off1302 (v6 : BitVec 32) : Fin 1 → Nat :=
  let c1_i32_1894 : BitVec 32 := 1#32
  let v4538 : BitVec 32 := Scalar.addi c1_i32_1894 v6
  let v4539 : Index := Scalar.indexCast v4538
  ![v4539.toNat]

def k0_chk258 (i : grid0.Coords) (v6 : BitVec 32) (v9 : BitVec 32) (v13 : BitVec 32) : Prop :=
  (∀ (k0_h2 : k0_cond2 i v13 = 1#1), ∀ a, (k0_off515 v9) a + S1x1.size a ≤ S2x2.size a) ∧
  (∀ (k0_h2 : k0_cond2 i v13 = 1#1), ∀ a, (k0_off516 v9) a + S1x1x2048x512.size a ≤ S2x2x2048x512.size a) ∧
  (∀ (k0_h2 : k0_cond2 i v13 = 1#1), ∀ a, (k0_off517 v6) a + S1x2048x512.size a ≤ S64x2048x512.size a) ∧
  (∀ (k0_h2 : k0_cond2 i v13 = 1#1), ∀ a, (k0_off518 v9) a + S1x1.size a ≤ S2x2.size a) ∧
  (∀ (k0_h2 : k0_cond2 i v13 = 1#1), ∀ a, (k0_off519 v9) a + S1x1x2048x512.size a ≤ S2x2x2048x512.size a) ∧
  (∀ (k0_h5 : k0_cond5 i v13 = 1#1), ∀ a, (k0_off1302 v6) a + S1.size a ≤ S193.size a)
theorem k0_off515_inb : ∀ (i : grid0.Coords) (v6 : BitVec 32) (v9 : BitVec 32) (v13 : BitVec 32) (k0_hw258 : k0_chk258 i v6 v9 v13), ∀ (k0_h2 : k0_cond2 i v13 = 1#1), ∀ a, (k0_off515 v9) a + S1x1.size a ≤ S2x2.size a := fun i v6 v9 v13 k0_hw258 k0_h2 => k0_hw258.1 k0_h2
theorem k0_off516_inb : ∀ (i : grid0.Coords) (v6 : BitVec 32) (v9 : BitVec 32) (v13 : BitVec 32) (k0_hw258 : k0_chk258 i v6 v9 v13), ∀ (k0_h2 : k0_cond2 i v13 = 1#1), ∀ a, (k0_off516 v9) a + S1x1x2048x512.size a ≤ S2x2x2048x512.size a := fun i v6 v9 v13 k0_hw258 k0_h2 => k0_hw258.2.1 k0_h2
theorem k0_off517_inb : ∀ (i : grid0.Coords) (v6 : BitVec 32) (v9 : BitVec 32) (v13 : BitVec 32) (k0_hw258 : k0_chk258 i v6 v9 v13), ∀ (k0_h2 : k0_cond2 i v13 = 1#1), ∀ a, (k0_off517 v6) a + S1x2048x512.size a ≤ S64x2048x512.size a := fun i v6 v9 v13 k0_hw258 k0_h2 => k0_hw258.2.2.1 k0_h2
theorem k0_off518_inb : ∀ (i : grid0.Coords) (v6 : BitVec 32) (v9 : BitVec 32) (v13 : BitVec 32) (k0_hw258 : k0_chk258 i v6 v9 v13), ∀ (k0_h2 : k0_cond2 i v13 = 1#1), ∀ a, (k0_off518 v9) a + S1x1.size a ≤ S2x2.size a := fun i v6 v9 v13 k0_hw258 k0_h2 => k0_hw258.2.2.2.1 k0_h2
theorem k0_off519_inb : ∀ (i : grid0.Coords) (v6 : BitVec 32) (v9 : BitVec 32) (v13 : BitVec 32) (k0_hw258 : k0_chk258 i v6 v9 v13), ∀ (k0_h2 : k0_cond2 i v13 = 1#1), ∀ a, (k0_off519 v9) a + S1x1x2048x512.size a ≤ S2x2x2048x512.size a := fun i v6 v9 v13 k0_hw258 k0_h2 => k0_hw258.2.2.2.2.1 k0_h2
theorem k0_off1302_inb : ∀ (i : grid0.Coords) (v6 : BitVec 32) (v9 : BitVec 32) (v13 : BitVec 32) (k0_hw258 : k0_chk258 i v6 v9 v13), ∀ (k0_h5 : k0_cond5 i v13 = 1#1), ∀ a, (k0_off1302 v6) a + S1.size a ≤ S193.size a := fun i v6 v9 v13 k0_hw258 k0_h5 => k0_hw258.2.2.2.2.2 k0_h5

def k0_off1303 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c319_i32_11 : BitVec 32 := 319#32
  let v39 : BitVec 32 := Scalar.minsi v38 c319_i32_11
  let v40 : Index := Scalar.indexCast v39
  ![v40.toNat]
def k0_off1304 (v41 : BitVec 32) (c65_i32_12 : BitVec 32) : Fin 1 → Nat :=
  let v42 : BitVec 32 := Scalar.addi c65_i32_12 v41
  let v43 : Index := Scalar.indexCast v42
  ![v43.toNat]

def k0_chk516 (v41 : BitVec 32) : Prop :=
  (∀ (r : Fin 2), ∀ a, (k0_off1304 v41 (BitVec.ofNat 32 (65 + 64 * r.val))) a + S1.size a ≤ S193.size a)
theorem k0_off1304_inb : ∀ (v41 : BitVec 32) (k0_hw516 : k0_chk516 v41), ∀ (r : Fin 2), ∀ a, (k0_off1304 v41 (BitVec.ofNat 32 (65 + 64 * r.val))) a + S1.size a ≤ S193.size a := fun v41 k0_hw516 r => k0_hw516 r

def k0_off1305 (v44 : BitVec 32) : Fin 2 → Nat :=
  let c0_i32_26 : BitVec 32 := 0#32
  ![v44.toNat, 0]
def k0_cond7 (i : grid0.Coords) (v48 : BitVec 32) : BitVec 1 :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let v49 : BitVec 1 := Scalar.cmpi .slt v38 v48
  let c0_i32_15 : BitVec 32 := 0#32
  let v50 : BitVec 1 := Scalar.cmpi .eq v38 c0_i32_15
  let v51 : BitVec 1 := Scalar.andi v49 v50
  let v52 : BitVec 32 := Scalar.extui v51
  let c0_i32_16 : BitVec 32 := 0#32
  let v53 : BitVec 1 := Scalar.cmpi .ne v52 c0_i32_16
  v53

def k0_off1306 (v44 : BitVec 32) : Fin 4 → Nat :=
  let c0_i32_25 : BitVec 32 := 0#32
  let c0_i32_27 : BitVec 32 := 0#32
  let c0_i32_28 : BitVec 32 := 0#32
  ![v44.toNat, 0, 0, 0]
def k0_off1307 (v41 : BitVec 32) : Fin 3 → Nat :=
  let c0_i32_29 : BitVec 32 := 0#32
  let c0_i32_30 : BitVec 32 := 0#32
  ![v41.toNat, 0, 0]
def k0_off1308 (v44 : BitVec 32) : Fin 2 → Nat :=
  let c1_i32_32 : BitVec 32 := 1#32
  ![v44.toNat, 1]
def k0_off1309 (v44 : BitVec 32) : Fin 4 → Nat :=
  let c1_i32_31 : BitVec 32 := 1#32
  let c0_i32_33 : BitVec 32 := 0#32
  let c0_i32_34 : BitVec 32 := 0#32
  ![v44.toNat, 1, 0, 0]
def k0_off1310 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c319_i32_17 : BitVec 32 := 319#32
  let v54 : BitVec 32 := Scalar.minsi v38 c319_i32_17
  let v56 : Index := Scalar.indexCast v54
  ![v56.toNat]
def k0_off1311 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c319_i32_17 : BitVec 32 := 319#32
  let v54 : BitVec 32 := Scalar.minsi v38 c319_i32_17
  let c1_i32_19 : BitVec 32 := 1#32
  let v58 : BitVec 32 := Scalar.subi v54 c1_i32_19
  let c0_i32_20 : BitVec 32 := 0#32
  let v59 : BitVec 32 := Scalar.maxsi v58 c0_i32_20
  let v60 : Index := Scalar.indexCast v59
  ![v60.toNat]
def k0_off1312 (v44 : BitVec 32) : Fin 2 → Nat :=
  let c0_i32_26 : BitVec 32 := 0#32
  ![v44.toNat, 0]
def k0_cond8 (i : grid0.Coords) (v48 : BitVec 32) (v57 : BitVec 32) (v61 : BitVec 32) : BitVec 1 :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let v49 : BitVec 1 := Scalar.cmpi .slt v38 v48
  let c319_i32_17 : BitVec 32 := 319#32
  let v54 : BitVec 32 := Scalar.minsi v38 c319_i32_17
  let c0_i32_18 : BitVec 32 := 0#32
  let v55 : BitVec 1 := Scalar.cmpi .eq v54 c0_i32_18
  let v62 : BitVec 1 := Scalar.cmpi .ne v57 v61
  let v63 : BitVec 1 := Scalar.ori v55 v62
  let v64 : BitVec 1 := Scalar.andi v49 v63
  let v65 : BitVec 32 := Scalar.extui v64
  let c0_i32_21 : BitVec 32 := 0#32
  let v66 : BitVec 1 := Scalar.cmpi .ne v65 c0_i32_21
  v66

def k0_off1313 (v44 : BitVec 32) : Fin 4 → Nat :=
  let c0_i32_25 : BitVec 32 := 0#32
  let c0_i32_27 : BitVec 32 := 0#32
  let c0_i32_28 : BitVec 32 := 0#32
  ![v44.toNat, 0, 0, 0]
def k0_off1314 (v41 : BitVec 32) : Fin 3 → Nat :=
  let c0_i32_29 : BitVec 32 := 0#32
  let c0_i32_30 : BitVec 32 := 0#32
  ![v41.toNat, 0, 0]
def k0_off1315 (v44 : BitVec 32) : Fin 2 → Nat :=
  let c1_i32_32 : BitVec 32 := 1#32
  ![v44.toNat, 1]
def k0_off1316 (v44 : BitVec 32) : Fin 4 → Nat :=
  let c1_i32_31 : BitVec 32 := 1#32
  let c0_i32_33 : BitVec 32 := 0#32
  let c0_i32_34 : BitVec 32 := 0#32
  ![v44.toNat, 1, 0, 0]
def k0_off1317 (v44 : BitVec 32) : Fin 2 → Nat :=
  let c1_i32_47 : BitVec 32 := 1#32
  let v101 : BitVec 32 := Scalar.subi c1_i32_47 v44
  let c0_i32_49 : BitVec 32 := 0#32
  ![v101.toNat, 0]
def k0_cond9 (v47 : BitVec 32) : BitVec 1 :=
  let c0_i32_37 : BitVec 32 := 0#32
  let v84 : BitVec 1 := Scalar.cmpi .sge v47 c0_i32_37
  let v85 : BitVec 32 := Scalar.extui v84
  let c0_i32_38 : BitVec 32 := 0#32
  let v86 : BitVec 1 := Scalar.cmpi .ne v85 c0_i32_38
  v86

def k0_off1318 (v44 : BitVec 32) : Fin 4 → Nat :=
  let c1_i32_47 : BitVec 32 := 1#32
  let v101 : BitVec 32 := Scalar.subi c1_i32_47 v44
  let c0_i32_48 : BitVec 32 := 0#32
  let c0_i32_50 : BitVec 32 := 0#32
  let c0_i32_51 : BitVec 32 := 0#32
  ![v101.toNat, 0, 0, 0]
def k0_off1319 (v47 : BitVec 32) : Fin 3 → Nat :=
  let c0_i32_52 : BitVec 32 := 0#32
  let c0_i32_53 : BitVec 32 := 0#32
  ![v47.toNat, 0, 0]
def k0_off1320 (v44 : BitVec 32) : Fin 2 → Nat :=
  let c1_i32_47 : BitVec 32 := 1#32
  let v101 : BitVec 32 := Scalar.subi c1_i32_47 v44
  let c1_i32_55 : BitVec 32 := 1#32
  ![v101.toNat, 1]
def k0_off1321 (v44 : BitVec 32) : Fin 4 → Nat :=
  let c1_i32_47 : BitVec 32 := 1#32
  let v101 : BitVec 32 := Scalar.subi c1_i32_47 v44
  let c1_i32_54 : BitVec 32 := 1#32
  let c0_i32_56 : BitVec 32 := 0#32
  let c0_i32_57 : BitVec 32 := 0#32
  ![v101.toNat, 1, 0, 0]
def k0_off1322 (v44 : BitVec 32) : Fin 4 → Nat :=
  let v87 : Index := Scalar.indexCast v44
  let c0_39 : Index := 0#32
  let c0_40 : Index := 0#32
  let c0_41 : Index := 0#32
  ![v87.toNat, 0, 0, 0]
def k0_off1323 (v44 : BitVec 32) : Fin 4 → Nat :=
  let v94 : Index := Scalar.indexCast v44
  let c1 : Index := 1#32
  let c0_44 : Index := 0#32
  let c0_45 : Index := 0#32
  ![v94.toNat, 1, 0, 0]

def k0_chk518 (i : grid0.Coords) (v41 : BitVec 32) (v44 : BitVec 32) (v47 : BitVec 32) (v48 : BitVec 32) (v57 : BitVec 32) (v61 : BitVec 32) : Prop :=
  (∀ (k0_h8 : k0_cond8 i v48 v57 v61 = 1#1), ∀ a, (k0_off1312 v44) a + S1x1.size a ≤ S2x2.size a) ∧
  (∀ (k0_h8 : k0_cond8 i v48 v57 v61 = 1#1), ∀ a, (k0_off1313 v44) a + S1x1x2048x512.size a ≤ S2x2x2048x512.size a) ∧
  (∀ (k0_h8 : k0_cond8 i v48 v57 v61 = 1#1), ∀ a, (k0_off1314 v41) a + S1x2048x512.size a ≤ S64x2048x512.size a) ∧
  (∀ (k0_h8 : k0_cond8 i v48 v57 v61 = 1#1), ∀ a, (k0_off1315 v44) a + S1x1.size a ≤ S2x2.size a) ∧
  (∀ (k0_h8 : k0_cond8 i v48 v57 v61 = 1#1), ∀ a, (k0_off1316 v44) a + S1x1x2048x512.size a ≤ S2x2x2048x512.size a) ∧
  (∀ (k0_h8 : k0_cond8 i v48 v57 v61 = 1#1), ∀ (k0_h9 : k0_cond9 v47 = 1#1), ∀ a, (k0_off1317 v44) a + S1x1.size a ≤ S2x2.size a) ∧
  (∀ (k0_h8 : k0_cond8 i v48 v57 v61 = 1#1), ∀ (k0_h9 : k0_cond9 v47 = 1#1), ∀ a, (k0_off1318 v44) a + S1x1x2048x512.size a ≤ S2x2x2048x512.size a) ∧
  (∀ (k0_h8 : k0_cond8 i v48 v57 v61 = 1#1), ∀ (k0_h9 : k0_cond9 v47 = 1#1), ∀ a, (k0_off1319 v47) a + S1x2048x512.size a ≤ S64x2048x512.size a) ∧
  (∀ (k0_h8 : k0_cond8 i v48 v57 v61 = 1#1), ∀ (k0_h9 : k0_cond9 v47 = 1#1), ∀ a, (k0_off1320 v44) a + S1x1.size a ≤ S2x2.size a) ∧
  (∀ (k0_h8 : k0_cond8 i v48 v57 v61 = 1#1), ∀ (k0_h9 : k0_cond9 v47 = 1#1), ∀ a, (k0_off1321 v44) a + S1x1x2048x512.size a ≤ S2x2x2048x512.size a) ∧
  (∀ (k0_h8 : k0_cond8 i v48 v57 v61 = 1#1), ∀ a, (k0_off1322 v44) a + S1x1x2048x512.size a ≤ S2x2x2048x512.size a) ∧
  (∀ (k0_h8 : k0_cond8 i v48 v57 v61 = 1#1), ∀ a, (k0_off1323 v44) a + S1x1x2048x512.size a ≤ S2x2x2048x512.size a)
theorem k0_off1312_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1312 v44) a + S1x1.size a ≤ S2x2.size a := fun i v41 v44 v47 v48 v57 v61 k0_hw518 k0_h8 => k0_hw518.1 k0_h8
theorem k0_off1313_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1313 v44) a + S1x1x2048x512.size a ≤ S2x2x2048x512.size a := fun i v41 v44 v47 v48 v57 v61 k0_hw518 k0_h8 => k0_hw518.2.1 k0_h8
theorem k0_off1314_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1314 v41) a + S1x2048x512.size a ≤ S64x2048x512.size a := fun i v41 v44 v47 v48 v57 v61 k0_hw518 k0_h8 => k0_hw518.2.2.1 k0_h8
theorem k0_off1315_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1315 v44) a + S1x1.size a ≤ S2x2.size a := fun i v41 v44 v47 v48 v57 v61 k0_hw518 k0_h8 => k0_hw518.2.2.2.1 k0_h8
theorem k0_off1316_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1316 v44) a + S1x1x2048x512.size a ≤ S2x2x2048x512.size a := fun i v41 v44 v47 v48 v57 v61 k0_hw518 k0_h8 => k0_hw518.2.2.2.2.1 k0_h8
theorem k0_off1317_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ (k0_h9 : k0_cond9 v47 = 1#1), ∀ a, (k0_off1317 v44) a + S1x1.size a ≤ S2x2.size a := fun i v41 v44 v47 v48 v57 v61 k0_hw518 k0_h8 k0_h9 => k0_hw518.2.2.2.2.2.1 k0_h8 k0_h9
theorem k0_off1318_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ (k0_h9 : k0_cond9 v47 = 1#1), ∀ a, (k0_off1318 v44) a + S1x1x2048x512.size a ≤ S2x2x2048x512.size a := fun i v41 v44 v47 v48 v57 v61 k0_hw518 k0_h8 k0_h9 => k0_hw518.2.2.2.2.2.2.1 k0_h8 k0_h9
theorem k0_off1319_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ (k0_h9 : k0_cond9 v47 = 1#1), ∀ a, (k0_off1319 v47) a + S1x2048x512.size a ≤ S64x2048x512.size a := fun i v41 v44 v47 v48 v57 v61 k0_hw518 k0_h8 k0_h9 => k0_hw518.2.2.2.2.2.2.2.1 k0_h8 k0_h9
theorem k0_off1320_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ (k0_h9 : k0_cond9 v47 = 1#1), ∀ a, (k0_off1320 v44) a + S1x1.size a ≤ S2x2.size a := fun i v41 v44 v47 v48 v57 v61 k0_hw518 k0_h8 k0_h9 => k0_hw518.2.2.2.2.2.2.2.2.1 k0_h8 k0_h9
theorem k0_off1321_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ (k0_h9 : k0_cond9 v47 = 1#1), ∀ a, (k0_off1321 v44) a + S1x1x2048x512.size a ≤ S2x2x2048x512.size a := fun i v41 v44 v47 v48 v57 v61 k0_hw518 k0_h8 k0_h9 => k0_hw518.2.2.2.2.2.2.2.2.2.1 k0_h8 k0_h9
theorem k0_off1322_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1322 v44) a + S1x1x2048x512.size a ≤ S2x2x2048x512.size a := fun i v41 v44 v47 v48 v57 v61 k0_hw518 k0_h8 => k0_hw518.2.2.2.2.2.2.2.2.2.2.1 k0_h8
theorem k0_off1323_inb : ∀ (i : grid0.Coords) (v41 : BitVec 32) (v44 : BitVec 32) (v47 : BitVec 32) (v48 : BitVec 32) (v57 : BitVec 32) (v61 : BitVec 32) (k0_hw518 : k0_chk518 i v41 v44 v47 v48 v57 v61), ∀ (k0_h8 : k0_cond8 i v48 v57 v61 = 1#1), ∀ a, (k0_off1323 v44) a + S1x1x2048x512.size a ≤ S2x2x2048x512.size a := fun i v41 v44 v47 v48 v57 v61 k0_hw518 k0_h8 => k0_hw518.2.2.2.2.2.2.2.2.2.2.2 k0_h8

def k0_off1324 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c0_i32_27 : BitVec 32 := 0#32
  let v75 : BitVec 32 := Scalar.addi v74 c0_i32_27
  let v76 : Index := Scalar.indexCast v75
  ![v76.toNat]
def k0_mult513 (v77 : BitVec 32) : BitVec 32 :=
  let c3_i32 : BitVec 32 := 3#32
  let v78 : BitVec 32 := Scalar.shrsi v77 c3_i32
  let c8191_i32 : BitVec 32 := 8191#32
  let v79 : BitVec 32 := Scalar.andi v78 c8191_i32
  let c8_i32 : BitVec 32 := 8#32
  let v80 : BitVec 32 := Scalar.muli v79 c8_i32
  v80
def k0_cond10 (i : grid0.Coords) (v48 : BitVec 32) : BitVec 1 :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let v49 : BitVec 1 := Scalar.cmpi .slt v38 v48
  let v67 : BitVec 32 := Scalar.extui v49
  let c0_i32_22 : BitVec 32 := 0#32
  let v68 : BitVec 1 := Scalar.cmpi .ne v67 c0_i32_22
  v68

def k0_off1325 (v77 : BitVec 32) : Fin 2 → Nat :=
  let c3_i32 : BitVec 32 := 3#32
  let v78 : BitVec 32 := Scalar.shrsi v77 c3_i32
  let c8191_i32 : BitVec 32 := 8191#32
  let v79 : BitVec 32 := Scalar.andi v78 c8191_i32
  let c8_i32 : BitVec 32 := 8#32
  let v80 : BitVec 32 := Scalar.muli v79 c8_i32
  let v81 : BitVec 32 := v80
  let v82 : Index := Scalar.indexCast v81
  let c0_28 : Index := 0#32
  ![v82.toNat, 0]
def k0_off1326 (v77 : BitVec 32) : Fin 2 → Nat :=
  let c3_i32 : BitVec 32 := 3#32
  let v78 : BitVec 32 := Scalar.shrsi v77 c3_i32
  let c8191_i32 : BitVec 32 := 8191#32
  let v79 : BitVec 32 := Scalar.andi v78 c8191_i32
  let v87 : Index := Scalar.indexCast v79
  let c0_31 : Index := 0#32
  ![v87.toNat, 0]

def k0_chk519 (i : grid0.Coords) (v48 : BitVec 32) (v77 : BitVec 32) : Prop :=
  (∀ (k0_h10 : k0_cond10 i v48 = 1#1), 8 ∣ (k0_mult513 v77).toNat) ∧
  (∀ (k0_h10 : k0_cond10 i v48 = 1#1), ∀ a, (k0_off1325 v77) a + S8x128.size a ≤ S65536x128.size a) ∧
  (∀ (k0_h10 : k0_cond10 i v48 = 1#1), ∀ a, (k0_off1326 v77) a + S1x128.size a ≤ S8192x128.size a)
theorem k0_mult513_dvd : ∀ (i : grid0.Coords) (v48 : BitVec 32) (v77 : BitVec 32) (k0_hw519 : k0_chk519 i v48 v77), ∀ (k0_h10 : k0_cond10 i v48 = 1#1), 8 ∣ (k0_mult513 v77).toNat := fun i v48 v77 k0_hw519 k0_h10 => k0_hw519.1 k0_h10
theorem k0_off1325_inb : ∀ (i : grid0.Coords) (v48 : BitVec 32) (v77 : BitVec 32) (k0_hw519 : k0_chk519 i v48 v77), ∀ (k0_h10 : k0_cond10 i v48 = 1#1), ∀ a, (k0_off1325 v77) a + S8x128.size a ≤ S65536x128.size a := fun i v48 v77 k0_hw519 k0_h10 => k0_hw519.2.1 k0_h10
theorem k0_off1326_inb : ∀ (i : grid0.Coords) (v48 : BitVec 32) (v77 : BitVec 32) (k0_hw519 : k0_chk519 i v48 v77), ∀ (k0_h10 : k0_cond10 i v48 = 1#1), ∀ a, (k0_off1326 v77) a + S1x128.size a ≤ S8192x128.size a := fun i v48 v77 k0_hw519 k0_h10 => k0_hw519.2.2 k0_h10

def k0_off1327 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c1_i32_34 : BitVec 32 := 1#32
  let v92 : BitVec 32 := Scalar.addi v74 c1_i32_34
  let v93 : Index := Scalar.indexCast v92
  ![v93.toNat]
def k0_mult514 (v94 : BitVec 32) : BitVec 32 :=
  let c3_i32_35 : BitVec 32 := 3#32
  let v95 : BitVec 32 := Scalar.shrsi v94 c3_i32_35
  let c8191_i32_36 : BitVec 32 := 8191#32
  let v96 : BitVec 32 := Scalar.andi v95 c8191_i32_36
  let c8_i32_37 : BitVec 32 := 8#32
  let v97 : BitVec 32 := Scalar.muli v96 c8_i32_37
  v97

def k0_off1328 (v94 : BitVec 32) : Fin 2 → Nat :=
  let c3_i32_35 : BitVec 32 := 3#32
  let v95 : BitVec 32 := Scalar.shrsi v94 c3_i32_35
  let c8191_i32_36 : BitVec 32 := 8191#32
  let v96 : BitVec 32 := Scalar.andi v95 c8191_i32_36
  let c8_i32_37 : BitVec 32 := 8#32
  let v97 : BitVec 32 := Scalar.muli v96 c8_i32_37
  let v98 : BitVec 32 := v97
  let v99 : Index := Scalar.indexCast v98
  let c0_38 : Index := 0#32
  ![v99.toNat, 0]
def k0_off1329 (v94 : BitVec 32) : Fin 2 → Nat :=
  let c3_i32_35 : BitVec 32 := 3#32
  let v95 : BitVec 32 := Scalar.shrsi v94 c3_i32_35
  let c8191_i32_36 : BitVec 32 := 8191#32
  let v96 : BitVec 32 := Scalar.andi v95 c8191_i32_36
  let v104 : Index := Scalar.indexCast v96
  let c0_40 : Index := 0#32
  ![v104.toNat, 0]

def k0_chk520 (i : grid0.Coords) (v48 : BitVec 32) (v94 : BitVec 32) : Prop :=
  (∀ (k0_h10 : k0_cond10 i v48 = 1#1), 8 ∣ (k0_mult514 v94).toNat) ∧
  (∀ (k0_h10 : k0_cond10 i v48 = 1#1), ∀ a, (k0_off1328 v94) a + S8x128.size a ≤ S65536x128.size a) ∧
  (∀ (k0_h10 : k0_cond10 i v48 = 1#1), ∀ a, (k0_off1329 v94) a + S1x128.size a ≤ S8192x128.size a)
theorem k0_mult514_dvd : ∀ (i : grid0.Coords) (v48 : BitVec 32) (v94 : BitVec 32) (k0_hw520 : k0_chk520 i v48 v94), ∀ (k0_h10 : k0_cond10 i v48 = 1#1), 8 ∣ (k0_mult514 v94).toNat := fun i v48 v94 k0_hw520 k0_h10 => k0_hw520.1 k0_h10
theorem k0_off1328_inb : ∀ (i : grid0.Coords) (v48 : BitVec 32) (v94 : BitVec 32) (k0_hw520 : k0_chk520 i v48 v94), ∀ (k0_h10 : k0_cond10 i v48 = 1#1), ∀ a, (k0_off1328 v94) a + S8x128.size a ≤ S65536x128.size a := fun i v48 v94 k0_hw520 k0_h10 => k0_hw520.2.1 k0_h10
theorem k0_off1329_inb : ∀ (i : grid0.Coords) (v48 : BitVec 32) (v94 : BitVec 32) (k0_hw520 : k0_chk520 i v48 v94), ∀ (k0_h10 : k0_cond10 i v48 = 1#1), ∀ a, (k0_off1329 v94) a + S1x128.size a ≤ S8192x128.size a := fun i v48 v94 k0_hw520 k0_h10 => k0_hw520.2.2 k0_h10

def k0_off1330 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c2_i32_42 : BitVec 32 := 2#32
  let v109 : BitVec 32 := Scalar.addi v74 c2_i32_42
  let v110 : Index := Scalar.indexCast v109
  ![v110.toNat]
def k0_mult515 (v111 : BitVec 32) : BitVec 32 :=
  let c3_i32_43 : BitVec 32 := 3#32
  let v112 : BitVec 32 := Scalar.shrsi v111 c3_i32_43
  let c8191_i32_44 : BitVec 32 := 8191#32
  let v113 : BitVec 32 := Scalar.andi v112 c8191_i32_44
  let c8_i32_45 : BitVec 32 := 8#32
  let v114 : BitVec 32 := Scalar.muli v113 c8_i32_45
  v114

def k0_off1331 (v111 : BitVec 32) : Fin 2 → Nat :=
  let c3_i32_43 : BitVec 32 := 3#32
  let v112 : BitVec 32 := Scalar.shrsi v111 c3_i32_43
  let c8191_i32_44 : BitVec 32 := 8191#32
  let v113 : BitVec 32 := Scalar.andi v112 c8191_i32_44
  let c8_i32_45 : BitVec 32 := 8#32
  let v114 : BitVec 32 := Scalar.muli v113 c8_i32_45
  let v115 : BitVec 32 := v114
  let v116 : Index := Scalar.indexCast v115
  let c0_46 : Index := 0#32
  ![v116.toNat, 0]
def k0_off1332 (v111 : BitVec 32) : Fin 2 → Nat :=
  let c3_i32_43 : BitVec 32 := 3#32
  let v112 : BitVec 32 := Scalar.shrsi v111 c3_i32_43
  let c8191_i32_44 : BitVec 32 := 8191#32
  let v113 : BitVec 32 := Scalar.andi v112 c8191_i32_44
  let v121 : Index := Scalar.indexCast v113
  let c0_48 : Index := 0#32
  ![v121.toNat, 0]

def k0_chk521 (i : grid0.Coords) (v48 : BitVec 32) (v111 : BitVec 32) : Prop :=
  (∀ (k0_h10 : k0_cond10 i v48 = 1#1), 8 ∣ (k0_mult515 v111).toNat) ∧
  (∀ (k0_h10 : k0_cond10 i v48 = 1#1), ∀ a, (k0_off1331 v111) a + S8x128.size a ≤ S65536x128.size a) ∧
  (∀ (k0_h10 : k0_cond10 i v48 = 1#1), ∀ a, (k0_off1332 v111) a + S1x128.size a ≤ S8192x128.size a)
theorem k0_mult515_dvd : ∀ (i : grid0.Coords) (v48 : BitVec 32) (v111 : BitVec 32) (k0_hw521 : k0_chk521 i v48 v111), ∀ (k0_h10 : k0_cond10 i v48 = 1#1), 8 ∣ (k0_mult515 v111).toNat := fun i v48 v111 k0_hw521 k0_h10 => k0_hw521.1 k0_h10
theorem k0_off1331_inb : ∀ (i : grid0.Coords) (v48 : BitVec 32) (v111 : BitVec 32) (k0_hw521 : k0_chk521 i v48 v111), ∀ (k0_h10 : k0_cond10 i v48 = 1#1), ∀ a, (k0_off1331 v111) a + S8x128.size a ≤ S65536x128.size a := fun i v48 v111 k0_hw521 k0_h10 => k0_hw521.2.1 k0_h10
theorem k0_off1332_inb : ∀ (i : grid0.Coords) (v48 : BitVec 32) (v111 : BitVec 32) (k0_hw521 : k0_chk521 i v48 v111), ∀ (k0_h10 : k0_cond10 i v48 = 1#1), ∀ a, (k0_off1332 v111) a + S1x128.size a ≤ S8192x128.size a := fun i v48 v111 k0_hw521 k0_h10 => k0_hw521.2.2 k0_h10

def k0_off1333 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c3_i32_50 : BitVec 32 := 3#32
  let v126 : BitVec 32 := Scalar.addi v74 c3_i32_50
  let v127 : Index := Scalar.indexCast v126
  ![v127.toNat]
def k0_mult516 (v128 : BitVec 32) : BitVec 32 :=
  let c3_i32_51 : BitVec 32 := 3#32
  let v129 : BitVec 32 := Scalar.shrsi v128 c3_i32_51
  let c8191_i32_52 : BitVec 32 := 8191#32
  let v130 : BitVec 32 := Scalar.andi v129 c8191_i32_52
  let c8_i32_53 : BitVec 32 := 8#32
  let v131 : BitVec 32 := Scalar.muli v130 c8_i32_53
  v131

def k0_off1334 (v128 : BitVec 32) : Fin 2 → Nat :=
  let c3_i32_51 : BitVec 32 := 3#32
  let v129 : BitVec 32 := Scalar.shrsi v128 c3_i32_51
  let c8191_i32_52 : BitVec 32 := 8191#32
  let v130 : BitVec 32 := Scalar.andi v129 c8191_i32_52
  let c8_i32_53 : BitVec 32 := 8#32
  let v131 : BitVec 32 := Scalar.muli v130 c8_i32_53
  let v132 : BitVec 32 := v131
  let v133 : Index := Scalar.indexCast v132
  let c0_54 : Index := 0#32
  ![v133.toNat, 0]
def k0_off1335 (v128 : BitVec 32) : Fin 2 → Nat :=
  let c3_i32_51 : BitVec 32 := 3#32
  let v129 : BitVec 32 := Scalar.shrsi v128 c3_i32_51
  let c8191_i32_52 : BitVec 32 := 8191#32
  let v130 : BitVec 32 := Scalar.andi v129 c8191_i32_52
  let v138 : Index := Scalar.indexCast v130
  let c0_56 : Index := 0#32
  ![v138.toNat, 0]

def k0_chk522 (i : grid0.Coords) (v48 : BitVec 32) (v128 : BitVec 32) : Prop :=
  (∀ (k0_h10 : k0_cond10 i v48 = 1#1), 8 ∣ (k0_mult516 v128).toNat) ∧
  (∀ (k0_h10 : k0_cond10 i v48 = 1#1), ∀ a, (k0_off1334 v128) a + S8x128.size a ≤ S65536x128.size a) ∧
  (∀ (k0_h10 : k0_cond10 i v48 = 1#1), ∀ a, (k0_off1335 v128) a + S1x128.size a ≤ S8192x128.size a)
theorem k0_mult516_dvd : ∀ (i : grid0.Coords) (v48 : BitVec 32) (v128 : BitVec 32) (k0_hw522 : k0_chk522 i v48 v128), ∀ (k0_h10 : k0_cond10 i v48 = 1#1), 8 ∣ (k0_mult516 v128).toNat := fun i v48 v128 k0_hw522 k0_h10 => k0_hw522.1 k0_h10
theorem k0_off1334_inb : ∀ (i : grid0.Coords) (v48 : BitVec 32) (v128 : BitVec 32) (k0_hw522 : k0_chk522 i v48 v128), ∀ (k0_h10 : k0_cond10 i v48 = 1#1), ∀ a, (k0_off1334 v128) a + S8x128.size a ≤ S65536x128.size a := fun i v48 v128 k0_hw522 k0_h10 => k0_hw522.2.1 k0_h10
theorem k0_off1335_inb : ∀ (i : grid0.Coords) (v48 : BitVec 32) (v128 : BitVec 32) (k0_hw522 : k0_chk522 i v48 v128), ∀ (k0_h10 : k0_cond10 i v48 = 1#1), ∀ a, (k0_off1335 v128) a + S1x128.size a ≤ S8192x128.size a := fun i v48 v128 k0_hw522 k0_h10 => k0_hw522.2.2 k0_h10

def k0_off1336 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c4_i32 : BitVec 32 := 4#32
  let v143 : BitVec 32 := Scalar.addi v74 c4_i32
  let v144 : Index := Scalar.indexCast v143
  ![v144.toNat]
def k0_mult517 (v145 : BitVec 32) : BitVec 32 :=
  let c3_i32_58 : BitVec 32 := 3#32
  let v146 : BitVec 32 := Scalar.shrsi v145 c3_i32_58
  let c8191_i32_59 : BitVec 32 := 8191#32
  let v147 : BitVec 32 := Scalar.andi v146 c8191_i32_59
  let c8_i32_60 : BitVec 32 := 8#32
  let v148 : BitVec 32 := Scalar.muli v147 c8_i32_60
  v148

def k0_off1337 (v145 : BitVec 32) : Fin 2 → Nat :=
  let c3_i32_58 : BitVec 32 := 3#32
  let v146 : BitVec 32 := Scalar.shrsi v145 c3_i32_58
  let c8191_i32_59 : BitVec 32 := 8191#32
  let v147 : BitVec 32 := Scalar.andi v146 c8191_i32_59
  let c8_i32_60 : BitVec 32 := 8#32
  let v148 : BitVec 32 := Scalar.muli v147 c8_i32_60
  let v149 : BitVec 32 := v148
  let v150 : Index := Scalar.indexCast v149
  let c0_61 : Index := 0#32
  ![v150.toNat, 0]
def k0_off1338 (v145 : BitVec 32) : Fin 2 → Nat :=
  let c3_i32_58 : BitVec 32 := 3#32
  let v146 : BitVec 32 := Scalar.shrsi v145 c3_i32_58
  let c8191_i32_59 : BitVec 32 := 8191#32
  let v147 : BitVec 32 := Scalar.andi v146 c8191_i32_59
  let v155 : Index := Scalar.indexCast v147
  let c0_63 : Index := 0#32
  ![v155.toNat, 0]

def k0_chk523 (i : grid0.Coords) (v48 : BitVec 32) (v145 : BitVec 32) : Prop :=
  (∀ (k0_h10 : k0_cond10 i v48 = 1#1), 8 ∣ (k0_mult517 v145).toNat) ∧
  (∀ (k0_h10 : k0_cond10 i v48 = 1#1), ∀ a, (k0_off1337 v145) a + S8x128.size a ≤ S65536x128.size a) ∧
  (∀ (k0_h10 : k0_cond10 i v48 = 1#1), ∀ a, (k0_off1338 v145) a + S1x128.size a ≤ S8192x128.size a)
theorem k0_mult517_dvd : ∀ (i : grid0.Coords) (v48 : BitVec 32) (v145 : BitVec 32) (k0_hw523 : k0_chk523 i v48 v145), ∀ (k0_h10 : k0_cond10 i v48 = 1#1), 8 ∣ (k0_mult517 v145).toNat := fun i v48 v145 k0_hw523 k0_h10 => k0_hw523.1 k0_h10
theorem k0_off1337_inb : ∀ (i : grid0.Coords) (v48 : BitVec 32) (v145 : BitVec 32) (k0_hw523 : k0_chk523 i v48 v145), ∀ (k0_h10 : k0_cond10 i v48 = 1#1), ∀ a, (k0_off1337 v145) a + S8x128.size a ≤ S65536x128.size a := fun i v48 v145 k0_hw523 k0_h10 => k0_hw523.2.1 k0_h10
theorem k0_off1338_inb : ∀ (i : grid0.Coords) (v48 : BitVec 32) (v145 : BitVec 32) (k0_hw523 : k0_chk523 i v48 v145), ∀ (k0_h10 : k0_cond10 i v48 = 1#1), ∀ a, (k0_off1338 v145) a + S1x128.size a ≤ S8192x128.size a := fun i v48 v145 k0_hw523 k0_h10 => k0_hw523.2.2 k0_h10

def k0_off1339 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c5_i32 : BitVec 32 := 5#32
  let v160 : BitVec 32 := Scalar.addi v74 c5_i32
  let v161 : Index := Scalar.indexCast v160
  ![v161.toNat]
def k0_mult518 (v162 : BitVec 32) : BitVec 32 :=
  let c3_i32_65 : BitVec 32 := 3#32
  let v163 : BitVec 32 := Scalar.shrsi v162 c3_i32_65
  let c8191_i32_66 : BitVec 32 := 8191#32
  let v164 : BitVec 32 := Scalar.andi v163 c8191_i32_66
  let c8_i32_67 : BitVec 32 := 8#32
  let v165 : BitVec 32 := Scalar.muli v164 c8_i32_67
  v165

def k0_off1340 (v162 : BitVec 32) : Fin 2 → Nat :=
  let c3_i32_65 : BitVec 32 := 3#32
  let v163 : BitVec 32 := Scalar.shrsi v162 c3_i32_65
  let c8191_i32_66 : BitVec 32 := 8191#32
  let v164 : BitVec 32 := Scalar.andi v163 c8191_i32_66
  let c8_i32_67 : BitVec 32 := 8#32
  let v165 : BitVec 32 := Scalar.muli v164 c8_i32_67
  let v166 : BitVec 32 := v165
  let v167 : Index := Scalar.indexCast v166
  let c0_68 : Index := 0#32
  ![v167.toNat, 0]
def k0_off1341 (v162 : BitVec 32) : Fin 2 → Nat :=
  let c3_i32_65 : BitVec 32 := 3#32
  let v163 : BitVec 32 := Scalar.shrsi v162 c3_i32_65
  let c8191_i32_66 : BitVec 32 := 8191#32
  let v164 : BitVec 32 := Scalar.andi v163 c8191_i32_66
  let v172 : Index := Scalar.indexCast v164
  let c0_70 : Index := 0#32
  ![v172.toNat, 0]

def k0_chk524 (i : grid0.Coords) (v48 : BitVec 32) (v162 : BitVec 32) : Prop :=
  (∀ (k0_h10 : k0_cond10 i v48 = 1#1), 8 ∣ (k0_mult518 v162).toNat) ∧
  (∀ (k0_h10 : k0_cond10 i v48 = 1#1), ∀ a, (k0_off1340 v162) a + S8x128.size a ≤ S65536x128.size a) ∧
  (∀ (k0_h10 : k0_cond10 i v48 = 1#1), ∀ a, (k0_off1341 v162) a + S1x128.size a ≤ S8192x128.size a)
theorem k0_mult518_dvd : ∀ (i : grid0.Coords) (v48 : BitVec 32) (v162 : BitVec 32) (k0_hw524 : k0_chk524 i v48 v162), ∀ (k0_h10 : k0_cond10 i v48 = 1#1), 8 ∣ (k0_mult518 v162).toNat := fun i v48 v162 k0_hw524 k0_h10 => k0_hw524.1 k0_h10
theorem k0_off1340_inb : ∀ (i : grid0.Coords) (v48 : BitVec 32) (v162 : BitVec 32) (k0_hw524 : k0_chk524 i v48 v162), ∀ (k0_h10 : k0_cond10 i v48 = 1#1), ∀ a, (k0_off1340 v162) a + S8x128.size a ≤ S65536x128.size a := fun i v48 v162 k0_hw524 k0_h10 => k0_hw524.2.1 k0_h10
theorem k0_off1341_inb : ∀ (i : grid0.Coords) (v48 : BitVec 32) (v162 : BitVec 32) (k0_hw524 : k0_chk524 i v48 v162), ∀ (k0_h10 : k0_cond10 i v48 = 1#1), ∀ a, (k0_off1341 v162) a + S1x128.size a ≤ S8192x128.size a := fun i v48 v162 k0_hw524 k0_h10 => k0_hw524.2.2 k0_h10

def k0_off1342 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c6_i32 : BitVec 32 := 6#32
  let v177 : BitVec 32 := Scalar.addi v74 c6_i32
  let v178 : Index := Scalar.indexCast v177
  ![v178.toNat]
def k0_mult519 (v179 : BitVec 32) : BitVec 32 :=
  let c3_i32_72 : BitVec 32 := 3#32
  let v180 : BitVec 32 := Scalar.shrsi v179 c3_i32_72
  let c8191_i32_73 : BitVec 32 := 8191#32
  let v181 : BitVec 32 := Scalar.andi v180 c8191_i32_73
  let c8_i32_74 : BitVec 32 := 8#32
  let v182 : BitVec 32 := Scalar.muli v181 c8_i32_74
  v182

def k0_off1343 (v179 : BitVec 32) : Fin 2 → Nat :=
  let c3_i32_72 : BitVec 32 := 3#32
  let v180 : BitVec 32 := Scalar.shrsi v179 c3_i32_72
  let c8191_i32_73 : BitVec 32 := 8191#32
  let v181 : BitVec 32 := Scalar.andi v180 c8191_i32_73
  let c8_i32_74 : BitVec 32 := 8#32
  let v182 : BitVec 32 := Scalar.muli v181 c8_i32_74
  let v183 : BitVec 32 := v182
  let v184 : Index := Scalar.indexCast v183
  let c0_75 : Index := 0#32
  ![v184.toNat, 0]
def k0_off1344 (v179 : BitVec 32) : Fin 2 → Nat :=
  let c3_i32_72 : BitVec 32 := 3#32
  let v180 : BitVec 32 := Scalar.shrsi v179 c3_i32_72
  let c8191_i32_73 : BitVec 32 := 8191#32
  let v181 : BitVec 32 := Scalar.andi v180 c8191_i32_73
  let v189 : Index := Scalar.indexCast v181
  let c0_77 : Index := 0#32
  ![v189.toNat, 0]

def k0_chk525 (i : grid0.Coords) (v48 : BitVec 32) (v179 : BitVec 32) : Prop :=
  (∀ (k0_h10 : k0_cond10 i v48 = 1#1), 8 ∣ (k0_mult519 v179).toNat) ∧
  (∀ (k0_h10 : k0_cond10 i v48 = 1#1), ∀ a, (k0_off1343 v179) a + S8x128.size a ≤ S65536x128.size a) ∧
  (∀ (k0_h10 : k0_cond10 i v48 = 1#1), ∀ a, (k0_off1344 v179) a + S1x128.size a ≤ S8192x128.size a)
theorem k0_mult519_dvd : ∀ (i : grid0.Coords) (v48 : BitVec 32) (v179 : BitVec 32) (k0_hw525 : k0_chk525 i v48 v179), ∀ (k0_h10 : k0_cond10 i v48 = 1#1), 8 ∣ (k0_mult519 v179).toNat := fun i v48 v179 k0_hw525 k0_h10 => k0_hw525.1 k0_h10
theorem k0_off1343_inb : ∀ (i : grid0.Coords) (v48 : BitVec 32) (v179 : BitVec 32) (k0_hw525 : k0_chk525 i v48 v179), ∀ (k0_h10 : k0_cond10 i v48 = 1#1), ∀ a, (k0_off1343 v179) a + S8x128.size a ≤ S65536x128.size a := fun i v48 v179 k0_hw525 k0_h10 => k0_hw525.2.1 k0_h10
theorem k0_off1344_inb : ∀ (i : grid0.Coords) (v48 : BitVec 32) (v179 : BitVec 32) (k0_hw525 : k0_chk525 i v48 v179), ∀ (k0_h10 : k0_cond10 i v48 = 1#1), ∀ a, (k0_off1344 v179) a + S1x128.size a ≤ S8192x128.size a := fun i v48 v179 k0_hw525 k0_h10 => k0_hw525.2.2 k0_h10

def k0_off1345 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c7_i32 : BitVec 32 := 7#32
  let v194 : BitVec 32 := Scalar.addi v74 c7_i32
  let v195 : Index := Scalar.indexCast v194
  ![v195.toNat]
def k0_mult520 (v196 : BitVec 32) : BitVec 32 :=
  let c3_i32_79 : BitVec 32 := 3#32
  let v197 : BitVec 32 := Scalar.shrsi v196 c3_i32_79
  let c8191_i32_80 : BitVec 32 := 8191#32
  let v198 : BitVec 32 := Scalar.andi v197 c8191_i32_80
  let c8_i32_81 : BitVec 32 := 8#32
  let v199 : BitVec 32 := Scalar.muli v198 c8_i32_81
  v199

def k0_off1346 (v196 : BitVec 32) : Fin 2 → Nat :=
  let c3_i32_79 : BitVec 32 := 3#32
  let v197 : BitVec 32 := Scalar.shrsi v196 c3_i32_79
  let c8191_i32_80 : BitVec 32 := 8191#32
  let v198 : BitVec 32 := Scalar.andi v197 c8191_i32_80
  let c8_i32_81 : BitVec 32 := 8#32
  let v199 : BitVec 32 := Scalar.muli v198 c8_i32_81
  let v200 : BitVec 32 := v199
  let v201 : Index := Scalar.indexCast v200
  let c0_82 : Index := 0#32
  ![v201.toNat, 0]
def k0_off1347 (v196 : BitVec 32) : Fin 2 → Nat :=
  let c3_i32_79 : BitVec 32 := 3#32
  let v197 : BitVec 32 := Scalar.shrsi v196 c3_i32_79
  let c8191_i32_80 : BitVec 32 := 8191#32
  let v198 : BitVec 32 := Scalar.andi v197 c8191_i32_80
  let v206 : Index := Scalar.indexCast v198
  let c0_84 : Index := 0#32
  ![v206.toNat, 0]

def k0_chk526 (i : grid0.Coords) (v48 : BitVec 32) (v196 : BitVec 32) : Prop :=
  (∀ (k0_h10 : k0_cond10 i v48 = 1#1), 8 ∣ (k0_mult520 v196).toNat) ∧
  (∀ (k0_h10 : k0_cond10 i v48 = 1#1), ∀ a, (k0_off1346 v196) a + S8x128.size a ≤ S65536x128.size a) ∧
  (∀ (k0_h10 : k0_cond10 i v48 = 1#1), ∀ a, (k0_off1347 v196) a + S1x128.size a ≤ S8192x128.size a)
theorem k0_mult520_dvd : ∀ (i : grid0.Coords) (v48 : BitVec 32) (v196 : BitVec 32) (k0_hw526 : k0_chk526 i v48 v196), ∀ (k0_h10 : k0_cond10 i v48 = 1#1), 8 ∣ (k0_mult520 v196).toNat := fun i v48 v196 k0_hw526 k0_h10 => k0_hw526.1 k0_h10
theorem k0_off1346_inb : ∀ (i : grid0.Coords) (v48 : BitVec 32) (v196 : BitVec 32) (k0_hw526 : k0_chk526 i v48 v196), ∀ (k0_h10 : k0_cond10 i v48 = 1#1), ∀ a, (k0_off1346 v196) a + S8x128.size a ≤ S65536x128.size a := fun i v48 v196 k0_hw526 k0_h10 => k0_hw526.2.1 k0_h10
theorem k0_off1347_inb : ∀ (i : grid0.Coords) (v48 : BitVec 32) (v196 : BitVec 32) (k0_hw526 : k0_chk526 i v48 v196), ∀ (k0_h10 : k0_cond10 i v48 = 1#1), ∀ a, (k0_off1347 v196) a + S1x128.size a ≤ S8192x128.size a := fun i v48 v196 k0_hw526 k0_h10 => k0_hw526.2.2 k0_h10

def k0_off1348 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c8_i32_86 : BitVec 32 := 8#32
  let v211 : BitVec 32 := Scalar.addi v74 c8_i32_86
  let v212 : Index := Scalar.indexCast v211
  ![v212.toNat]
def k0_mult521 (v213 : BitVec 32) : BitVec 32 :=
  let c3_i32_87 : BitVec 32 := 3#32
  let v214 : BitVec 32 := Scalar.shrsi v213 c3_i32_87
  let c8191_i32_88 : BitVec 32 := 8191#32
  let v215 : BitVec 32 := Scalar.andi v214 c8191_i32_88
  let c8_i32_89 : BitVec 32 := 8#32
  let v216 : BitVec 32 := Scalar.muli v215 c8_i32_89
  v216

def k0_off1349 (v213 : BitVec 32) : Fin 2 → Nat :=
  let c3_i32_87 : BitVec 32 := 3#32
  let v214 : BitVec 32 := Scalar.shrsi v213 c3_i32_87
  let c8191_i32_88 : BitVec 32 := 8191#32
  let v215 : BitVec 32 := Scalar.andi v214 c8191_i32_88
  let c8_i32_89 : BitVec 32 := 8#32
  let v216 : BitVec 32 := Scalar.muli v215 c8_i32_89
  let v217 : BitVec 32 := v216
  let v218 : Index := Scalar.indexCast v217
  let c0_90 : Index := 0#32
  ![v218.toNat, 0]
def k0_off1350 (v213 : BitVec 32) : Fin 2 → Nat :=
  let c3_i32_87 : BitVec 32 := 3#32
  let v214 : BitVec 32 := Scalar.shrsi v213 c3_i32_87
  let c8191_i32_88 : BitVec 32 := 8191#32
  let v215 : BitVec 32 := Scalar.andi v214 c8191_i32_88
  let v223 : Index := Scalar.indexCast v215
  let c0_92 : Index := 0#32
  ![v223.toNat, 0]

def k0_chk527 (i : grid0.Coords) (v48 : BitVec 32) (v213 : BitVec 32) : Prop :=
  (∀ (k0_h10 : k0_cond10 i v48 = 1#1), 8 ∣ (k0_mult521 v213).toNat) ∧
  (∀ (k0_h10 : k0_cond10 i v48 = 1#1), ∀ a, (k0_off1349 v213) a + S8x128.size a ≤ S65536x128.size a) ∧
  (∀ (k0_h10 : k0_cond10 i v48 = 1#1), ∀ a, (k0_off1350 v213) a + S1x128.size a ≤ S8192x128.size a)
theorem k0_mult521_dvd : ∀ (i : grid0.Coords) (v48 : BitVec 32) (v213 : BitVec 32) (k0_hw527 : k0_chk527 i v48 v213), ∀ (k0_h10 : k0_cond10 i v48 = 1#1), 8 ∣ (k0_mult521 v213).toNat := fun i v48 v213 k0_hw527 k0_h10 => k0_hw527.1 k0_h10
theorem k0_off1349_inb : ∀ (i : grid0.Coords) (v48 : BitVec 32) (v213 : BitVec 32) (k0_hw527 : k0_chk527 i v48 v213), ∀ (k0_h10 : k0_cond10 i v48 = 1#1), ∀ a, (k0_off1349 v213) a + S8x128.size a ≤ S65536x128.size a := fun i v48 v213 k0_hw527 k0_h10 => k0_hw527.2.1 k0_h10
theorem k0_off1350_inb : ∀ (i : grid0.Coords) (v48 : BitVec 32) (v213 : BitVec 32) (k0_hw527 : k0_chk527 i v48 v213), ∀ (k0_h10 : k0_cond10 i v48 = 1#1), ∀ a, (k0_off1350 v213) a + S1x128.size a ≤ S8192x128.size a := fun i v48 v213 k0_hw527 k0_h10 => k0_hw527.2.2 k0_h10

def k0_off1351 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c9_i32 : BitVec 32 := 9#32
  let v228 : BitVec 32 := Scalar.addi v74 c9_i32
  let v229 : Index := Scalar.indexCast v228
  ![v229.toNat]
def k0_mult522 (v230 : BitVec 32) : BitVec 32 :=
  let c3_i32_95 : BitVec 32 := 3#32
  let v231 : BitVec 32 := Scalar.shrsi v230 c3_i32_95
  let c8191_i32_96 : BitVec 32 := 8191#32
  let v232 : BitVec 32 := Scalar.andi v231 c8191_i32_96
  let c8_i32_97 : BitVec 32 := 8#32
  let v233 : BitVec 32 := Scalar.muli v232 c8_i32_97
  v233

def k0_off1352 (v230 : BitVec 32) : Fin 2 → Nat :=
  let c3_i32_95 : BitVec 32 := 3#32
  let v231 : BitVec 32 := Scalar.shrsi v230 c3_i32_95
  let c8191_i32_96 : BitVec 32 := 8191#32
  let v232 : BitVec 32 := Scalar.andi v231 c8191_i32_96
  let c8_i32_97 : BitVec 32 := 8#32
  let v233 : BitVec 32 := Scalar.muli v232 c8_i32_97
  let v234 : BitVec 32 := v233
  let v235 : Index := Scalar.indexCast v234
  let c0_98 : Index := 0#32
  ![v235.toNat, 0]
def k0_off1353 (v230 : BitVec 32) : Fin 2 → Nat :=
  let c3_i32_95 : BitVec 32 := 3#32
  let v231 : BitVec 32 := Scalar.shrsi v230 c3_i32_95
  let c8191_i32_96 : BitVec 32 := 8191#32
  let v232 : BitVec 32 := Scalar.andi v231 c8191_i32_96
  let v240 : Index := Scalar.indexCast v232
  let c0_100 : Index := 0#32
  ![v240.toNat, 0]

def k0_chk528 (i : grid0.Coords) (v48 : BitVec 32) (v230 : BitVec 32) : Prop :=
  (∀ (k0_h10 : k0_cond10 i v48 = 1#1), 8 ∣ (k0_mult522 v230).toNat) ∧
  (∀ (k0_h10 : k0_cond10 i v48 = 1#1), ∀ a, (k0_off1352 v230) a + S8x128.size a ≤ S65536x128.size a) ∧
  (∀ (k0_h10 : k0_cond10 i v48 = 1#1), ∀ a, (k0_off1353 v230) a + S1x128.size a ≤ S8192x128.size a)
theorem k0_mult522_dvd : ∀ (i : grid0.Coords) (v48 : BitVec 32) (v230 : BitVec 32) (k0_hw528 : k0_chk528 i v48 v230), ∀ (k0_h10 : k0_cond10 i v48 = 1#1), 8 ∣ (k0_mult522 v230).toNat := fun i v48 v230 k0_hw528 k0_h10 => k0_hw528.1 k0_h10
theorem k0_off1352_inb : ∀ (i : grid0.Coords) (v48 : BitVec 32) (v230 : BitVec 32) (k0_hw528 : k0_chk528 i v48 v230), ∀ (k0_h10 : k0_cond10 i v48 = 1#1), ∀ a, (k0_off1352 v230) a + S8x128.size a ≤ S65536x128.size a := fun i v48 v230 k0_hw528 k0_h10 => k0_hw528.2.1 k0_h10
theorem k0_off1353_inb : ∀ (i : grid0.Coords) (v48 : BitVec 32) (v230 : BitVec 32) (k0_hw528 : k0_chk528 i v48 v230), ∀ (k0_h10 : k0_cond10 i v48 = 1#1), ∀ a, (k0_off1353 v230) a + S1x128.size a ≤ S8192x128.size a := fun i v48 v230 k0_hw528 k0_h10 => k0_hw528.2.2 k0_h10

def k0_off1354 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c10_i32 : BitVec 32 := 10#32
  let v245 : BitVec 32 := Scalar.addi v74 c10_i32
  let v246 : Index := Scalar.indexCast v245
  ![v246.toNat]
def k0_mult523 (v247 : BitVec 32) : BitVec 32 :=
  let c3_i32_102 : BitVec 32 := 3#32
  let v248 : BitVec 32 := Scalar.shrsi v247 c3_i32_102
  let c8191_i32_103 : BitVec 32 := 8191#32
  let v249 : BitVec 32 := Scalar.andi v248 c8191_i32_103
  let c8_i32_104 : BitVec 32 := 8#32
  let v250 : BitVec 32 := Scalar.muli v249 c8_i32_104
  v250

def k0_off1355 (v247 : BitVec 32) : Fin 2 → Nat :=
  let c3_i32_102 : BitVec 32 := 3#32
  let v248 : BitVec 32 := Scalar.shrsi v247 c3_i32_102
  let c8191_i32_103 : BitVec 32 := 8191#32
  let v249 : BitVec 32 := Scalar.andi v248 c8191_i32_103
  let c8_i32_104 : BitVec 32 := 8#32
  let v250 : BitVec 32 := Scalar.muli v249 c8_i32_104
  let v251 : BitVec 32 := v250
  let v252 : Index := Scalar.indexCast v251
  let c0_105 : Index := 0#32
  ![v252.toNat, 0]
def k0_off1356 (v247 : BitVec 32) : Fin 2 → Nat :=
  let c3_i32_102 : BitVec 32 := 3#32
  let v248 : BitVec 32 := Scalar.shrsi v247 c3_i32_102
  let c8191_i32_103 : BitVec 32 := 8191#32
  let v249 : BitVec 32 := Scalar.andi v248 c8191_i32_103
  let v257 : Index := Scalar.indexCast v249
  let c0_107 : Index := 0#32
  ![v257.toNat, 0]

def k0_chk529 (i : grid0.Coords) (v48 : BitVec 32) (v247 : BitVec 32) : Prop :=
  (∀ (k0_h10 : k0_cond10 i v48 = 1#1), 8 ∣ (k0_mult523 v247).toNat) ∧
  (∀ (k0_h10 : k0_cond10 i v48 = 1#1), ∀ a, (k0_off1355 v247) a + S8x128.size a ≤ S65536x128.size a) ∧
  (∀ (k0_h10 : k0_cond10 i v48 = 1#1), ∀ a, (k0_off1356 v247) a + S1x128.size a ≤ S8192x128.size a)
theorem k0_mult523_dvd : ∀ (i : grid0.Coords) (v48 : BitVec 32) (v247 : BitVec 32) (k0_hw529 : k0_chk529 i v48 v247), ∀ (k0_h10 : k0_cond10 i v48 = 1#1), 8 ∣ (k0_mult523 v247).toNat := fun i v48 v247 k0_hw529 k0_h10 => k0_hw529.1 k0_h10
theorem k0_off1355_inb : ∀ (i : grid0.Coords) (v48 : BitVec 32) (v247 : BitVec 32) (k0_hw529 : k0_chk529 i v48 v247), ∀ (k0_h10 : k0_cond10 i v48 = 1#1), ∀ a, (k0_off1355 v247) a + S8x128.size a ≤ S65536x128.size a := fun i v48 v247 k0_hw529 k0_h10 => k0_hw529.2.1 k0_h10
theorem k0_off1356_inb : ∀ (i : grid0.Coords) (v48 : BitVec 32) (v247 : BitVec 32) (k0_hw529 : k0_chk529 i v48 v247), ∀ (k0_h10 : k0_cond10 i v48 = 1#1), ∀ a, (k0_off1356 v247) a + S1x128.size a ≤ S8192x128.size a := fun i v48 v247 k0_hw529 k0_h10 => k0_hw529.2.2 k0_h10

def k0_off1357 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c11_i32 : BitVec 32 := 11#32
  let v262 : BitVec 32 := Scalar.addi v74 c11_i32
  let v263 : Index := Scalar.indexCast v262
  ![v263.toNat]
def k0_mult524 (v264 : BitVec 32) : BitVec 32 :=
  let c3_i32_109 : BitVec 32 := 3#32
  let v265 : BitVec 32 := Scalar.shrsi v264 c3_i32_109
  let c8191_i32_110 : BitVec 32 := 8191#32
  let v266 : BitVec 32 := Scalar.andi v265 c8191_i32_110
  let c8_i32_111 : BitVec 32 := 8#32
  let v267 : BitVec 32 := Scalar.muli v266 c8_i32_111
  v267

def k0_off1358 (v264 : BitVec 32) : Fin 2 → Nat :=
  let c3_i32_109 : BitVec 32 := 3#32
  let v265 : BitVec 32 := Scalar.shrsi v264 c3_i32_109
  let c8191_i32_110 : BitVec 32 := 8191#32
  let v266 : BitVec 32 := Scalar.andi v265 c8191_i32_110
  let c8_i32_111 : BitVec 32 := 8#32
  let v267 : BitVec 32 := Scalar.muli v266 c8_i32_111
  let v268 : BitVec 32 := v267
  let v269 : Index := Scalar.indexCast v268
  let c0_112 : Index := 0#32
  ![v269.toNat, 0]
def k0_off1359 (v264 : BitVec 32) : Fin 2 → Nat :=
  let c3_i32_109 : BitVec 32 := 3#32
  let v265 : BitVec 32 := Scalar.shrsi v264 c3_i32_109
  let c8191_i32_110 : BitVec 32 := 8191#32
  let v266 : BitVec 32 := Scalar.andi v265 c8191_i32_110
  let v274 : Index := Scalar.indexCast v266
  let c0_114 : Index := 0#32
  ![v274.toNat, 0]

def k0_chk530 (i : grid0.Coords) (v48 : BitVec 32) (v264 : BitVec 32) : Prop :=
  (∀ (k0_h10 : k0_cond10 i v48 = 1#1), 8 ∣ (k0_mult524 v264).toNat) ∧
  (∀ (k0_h10 : k0_cond10 i v48 = 1#1), ∀ a, (k0_off1358 v264) a + S8x128.size a ≤ S65536x128.size a) ∧
  (∀ (k0_h10 : k0_cond10 i v48 = 1#1), ∀ a, (k0_off1359 v264) a + S1x128.size a ≤ S8192x128.size a)
theorem k0_mult524_dvd : ∀ (i : grid0.Coords) (v48 : BitVec 32) (v264 : BitVec 32) (k0_hw530 : k0_chk530 i v48 v264), ∀ (k0_h10 : k0_cond10 i v48 = 1#1), 8 ∣ (k0_mult524 v264).toNat := fun i v48 v264 k0_hw530 k0_h10 => k0_hw530.1 k0_h10
theorem k0_off1358_inb : ∀ (i : grid0.Coords) (v48 : BitVec 32) (v264 : BitVec 32) (k0_hw530 : k0_chk530 i v48 v264), ∀ (k0_h10 : k0_cond10 i v48 = 1#1), ∀ a, (k0_off1358 v264) a + S8x128.size a ≤ S65536x128.size a := fun i v48 v264 k0_hw530 k0_h10 => k0_hw530.2.1 k0_h10
theorem k0_off1359_inb : ∀ (i : grid0.Coords) (v48 : BitVec 32) (v264 : BitVec 32) (k0_hw530 : k0_chk530 i v48 v264), ∀ (k0_h10 : k0_cond10 i v48 = 1#1), ∀ a, (k0_off1359 v264) a + S1x128.size a ≤ S8192x128.size a := fun i v48 v264 k0_hw530 k0_h10 => k0_hw530.2.2 k0_h10

def k0_off1360 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c12_i32 : BitVec 32 := 12#32
  let v279 : BitVec 32 := Scalar.addi v74 c12_i32
  let v280 : Index := Scalar.indexCast v279
  ![v280.toNat]
def k0_mult525 (v281 : BitVec 32) : BitVec 32 :=
  let c3_i32_116 : BitVec 32 := 3#32
  let v282 : BitVec 32 := Scalar.shrsi v281 c3_i32_116
  let c8191_i32_117 : BitVec 32 := 8191#32
  let v283 : BitVec 32 := Scalar.andi v282 c8191_i32_117
  let c8_i32_118 : BitVec 32 := 8#32
  let v284 : BitVec 32 := Scalar.muli v283 c8_i32_118
  v284

def k0_off1361 (v281 : BitVec 32) : Fin 2 → Nat :=
  let c3_i32_116 : BitVec 32 := 3#32
  let v282 : BitVec 32 := Scalar.shrsi v281 c3_i32_116
  let c8191_i32_117 : BitVec 32 := 8191#32
  let v283 : BitVec 32 := Scalar.andi v282 c8191_i32_117
  let c8_i32_118 : BitVec 32 := 8#32
  let v284 : BitVec 32 := Scalar.muli v283 c8_i32_118
  let v285 : BitVec 32 := v284
  let v286 : Index := Scalar.indexCast v285
  let c0_119 : Index := 0#32
  ![v286.toNat, 0]
def k0_off1362 (v281 : BitVec 32) : Fin 2 → Nat :=
  let c3_i32_116 : BitVec 32 := 3#32
  let v282 : BitVec 32 := Scalar.shrsi v281 c3_i32_116
  let c8191_i32_117 : BitVec 32 := 8191#32
  let v283 : BitVec 32 := Scalar.andi v282 c8191_i32_117
  let v291 : Index := Scalar.indexCast v283
  let c0_121 : Index := 0#32
  ![v291.toNat, 0]

def k0_chk531 (i : grid0.Coords) (v48 : BitVec 32) (v281 : BitVec 32) : Prop :=
  (∀ (k0_h10 : k0_cond10 i v48 = 1#1), 8 ∣ (k0_mult525 v281).toNat) ∧
  (∀ (k0_h10 : k0_cond10 i v48 = 1#1), ∀ a, (k0_off1361 v281) a + S8x128.size a ≤ S65536x128.size a) ∧
  (∀ (k0_h10 : k0_cond10 i v48 = 1#1), ∀ a, (k0_off1362 v281) a + S1x128.size a ≤ S8192x128.size a)
theorem k0_mult525_dvd : ∀ (i : grid0.Coords) (v48 : BitVec 32) (v281 : BitVec 32) (k0_hw531 : k0_chk531 i v48 v281), ∀ (k0_h10 : k0_cond10 i v48 = 1#1), 8 ∣ (k0_mult525 v281).toNat := fun i v48 v281 k0_hw531 k0_h10 => k0_hw531.1 k0_h10
theorem k0_off1361_inb : ∀ (i : grid0.Coords) (v48 : BitVec 32) (v281 : BitVec 32) (k0_hw531 : k0_chk531 i v48 v281), ∀ (k0_h10 : k0_cond10 i v48 = 1#1), ∀ a, (k0_off1361 v281) a + S8x128.size a ≤ S65536x128.size a := fun i v48 v281 k0_hw531 k0_h10 => k0_hw531.2.1 k0_h10
theorem k0_off1362_inb : ∀ (i : grid0.Coords) (v48 : BitVec 32) (v281 : BitVec 32) (k0_hw531 : k0_chk531 i v48 v281), ∀ (k0_h10 : k0_cond10 i v48 = 1#1), ∀ a, (k0_off1362 v281) a + S1x128.size a ≤ S8192x128.size a := fun i v48 v281 k0_hw531 k0_h10 => k0_hw531.2.2 k0_h10

def k0_off1363 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c13_i32 : BitVec 32 := 13#32
  let v296 : BitVec 32 := Scalar.addi v74 c13_i32
  let v297 : Index := Scalar.indexCast v296
  ![v297.toNat]
def k0_mult526 (v298 : BitVec 32) : BitVec 32 :=
  let c3_i32_123 : BitVec 32 := 3#32
  let v299 : BitVec 32 := Scalar.shrsi v298 c3_i32_123
  let c8191_i32_124 : BitVec 32 := 8191#32
  let v300 : BitVec 32 := Scalar.andi v299 c8191_i32_124
  let c8_i32_125 : BitVec 32 := 8#32
  let v301 : BitVec 32 := Scalar.muli v300 c8_i32_125
  v301

def k0_off1364 (v298 : BitVec 32) : Fin 2 → Nat :=
  let c3_i32_123 : BitVec 32 := 3#32
  let v299 : BitVec 32 := Scalar.shrsi v298 c3_i32_123
  let c8191_i32_124 : BitVec 32 := 8191#32
  let v300 : BitVec 32 := Scalar.andi v299 c8191_i32_124
  let c8_i32_125 : BitVec 32 := 8#32
  let v301 : BitVec 32 := Scalar.muli v300 c8_i32_125
  let v302 : BitVec 32 := v301
  let v303 : Index := Scalar.indexCast v302
  let c0_126 : Index := 0#32
  ![v303.toNat, 0]
def k0_off1365 (v298 : BitVec 32) : Fin 2 → Nat :=
  let c3_i32_123 : BitVec 32 := 3#32
  let v299 : BitVec 32 := Scalar.shrsi v298 c3_i32_123
  let c8191_i32_124 : BitVec 32 := 8191#32
  let v300 : BitVec 32 := Scalar.andi v299 c8191_i32_124
  let v308 : Index := Scalar.indexCast v300
  let c0_128 : Index := 0#32
  ![v308.toNat, 0]

def k0_chk532 (i : grid0.Coords) (v48 : BitVec 32) (v298 : BitVec 32) : Prop :=
  (∀ (k0_h10 : k0_cond10 i v48 = 1#1), 8 ∣ (k0_mult526 v298).toNat) ∧
  (∀ (k0_h10 : k0_cond10 i v48 = 1#1), ∀ a, (k0_off1364 v298) a + S8x128.size a ≤ S65536x128.size a) ∧
  (∀ (k0_h10 : k0_cond10 i v48 = 1#1), ∀ a, (k0_off1365 v298) a + S1x128.size a ≤ S8192x128.size a)
theorem k0_mult526_dvd : ∀ (i : grid0.Coords) (v48 : BitVec 32) (v298 : BitVec 32) (k0_hw532 : k0_chk532 i v48 v298), ∀ (k0_h10 : k0_cond10 i v48 = 1#1), 8 ∣ (k0_mult526 v298).toNat := fun i v48 v298 k0_hw532 k0_h10 => k0_hw532.1 k0_h10
theorem k0_off1364_inb : ∀ (i : grid0.Coords) (v48 : BitVec 32) (v298 : BitVec 32) (k0_hw532 : k0_chk532 i v48 v298), ∀ (k0_h10 : k0_cond10 i v48 = 1#1), ∀ a, (k0_off1364 v298) a + S8x128.size a ≤ S65536x128.size a := fun i v48 v298 k0_hw532 k0_h10 => k0_hw532.2.1 k0_h10
theorem k0_off1365_inb : ∀ (i : grid0.Coords) (v48 : BitVec 32) (v298 : BitVec 32) (k0_hw532 : k0_chk532 i v48 v298), ∀ (k0_h10 : k0_cond10 i v48 = 1#1), ∀ a, (k0_off1365 v298) a + S1x128.size a ≤ S8192x128.size a := fun i v48 v298 k0_hw532 k0_h10 => k0_hw532.2.2 k0_h10

def k0_off1366 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c14_i32 : BitVec 32 := 14#32
  let v313 : BitVec 32 := Scalar.addi v74 c14_i32
  let v314 : Index := Scalar.indexCast v313
  ![v314.toNat]
def k0_mult527 (v315 : BitVec 32) : BitVec 32 :=
  let c3_i32_130 : BitVec 32 := 3#32
  let v316 : BitVec 32 := Scalar.shrsi v315 c3_i32_130
  let c8191_i32_131 : BitVec 32 := 8191#32
  let v317 : BitVec 32 := Scalar.andi v316 c8191_i32_131
  let c8_i32_132 : BitVec 32 := 8#32
  let v318 : BitVec 32 := Scalar.muli v317 c8_i32_132
  v318

def k0_off1367 (v315 : BitVec 32) : Fin 2 → Nat :=
  let c3_i32_130 : BitVec 32 := 3#32
  let v316 : BitVec 32 := Scalar.shrsi v315 c3_i32_130
  let c8191_i32_131 : BitVec 32 := 8191#32
  let v317 : BitVec 32 := Scalar.andi v316 c8191_i32_131
  let c8_i32_132 : BitVec 32 := 8#32
  let v318 : BitVec 32 := Scalar.muli v317 c8_i32_132
  let v319 : BitVec 32 := v318
  let v320 : Index := Scalar.indexCast v319
  let c0_133 : Index := 0#32
  ![v320.toNat, 0]
def k0_off1368 (v315 : BitVec 32) : Fin 2 → Nat :=
  let c3_i32_130 : BitVec 32 := 3#32
  let v316 : BitVec 32 := Scalar.shrsi v315 c3_i32_130
  let c8191_i32_131 : BitVec 32 := 8191#32
  let v317 : BitVec 32 := Scalar.andi v316 c8191_i32_131
  let v325 : Index := Scalar.indexCast v317
  let c0_135 : Index := 0#32
  ![v325.toNat, 0]

def k0_chk533 (i : grid0.Coords) (v48 : BitVec 32) (v315 : BitVec 32) : Prop :=
  (∀ (k0_h10 : k0_cond10 i v48 = 1#1), 8 ∣ (k0_mult527 v315).toNat) ∧
  (∀ (k0_h10 : k0_cond10 i v48 = 1#1), ∀ a, (k0_off1367 v315) a + S8x128.size a ≤ S65536x128.size a) ∧
  (∀ (k0_h10 : k0_cond10 i v48 = 1#1), ∀ a, (k0_off1368 v315) a + S1x128.size a ≤ S8192x128.size a)
theorem k0_mult527_dvd : ∀ (i : grid0.Coords) (v48 : BitVec 32) (v315 : BitVec 32) (k0_hw533 : k0_chk533 i v48 v315), ∀ (k0_h10 : k0_cond10 i v48 = 1#1), 8 ∣ (k0_mult527 v315).toNat := fun i v48 v315 k0_hw533 k0_h10 => k0_hw533.1 k0_h10
theorem k0_off1367_inb : ∀ (i : grid0.Coords) (v48 : BitVec 32) (v315 : BitVec 32) (k0_hw533 : k0_chk533 i v48 v315), ∀ (k0_h10 : k0_cond10 i v48 = 1#1), ∀ a, (k0_off1367 v315) a + S8x128.size a ≤ S65536x128.size a := fun i v48 v315 k0_hw533 k0_h10 => k0_hw533.2.1 k0_h10
theorem k0_off1368_inb : ∀ (i : grid0.Coords) (v48 : BitVec 32) (v315 : BitVec 32) (k0_hw533 : k0_chk533 i v48 v315), ∀ (k0_h10 : k0_cond10 i v48 = 1#1), ∀ a, (k0_off1368 v315) a + S1x128.size a ≤ S8192x128.size a := fun i v48 v315 k0_hw533 k0_h10 => k0_hw533.2.2 k0_h10

def k0_off1369 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c15_i32 : BitVec 32 := 15#32
  let v330 : BitVec 32 := Scalar.addi v74 c15_i32
  let v331 : Index := Scalar.indexCast v330
  ![v331.toNat]
def k0_mult528 (v332 : BitVec 32) : BitVec 32 :=
  let c3_i32_137 : BitVec 32 := 3#32
  let v333 : BitVec 32 := Scalar.shrsi v332 c3_i32_137
  let c8191_i32_138 : BitVec 32 := 8191#32
  let v334 : BitVec 32 := Scalar.andi v333 c8191_i32_138
  let c8_i32_139 : BitVec 32 := 8#32
  let v335 : BitVec 32 := Scalar.muli v334 c8_i32_139
  v335

def k0_off1370 (v332 : BitVec 32) : Fin 2 → Nat :=
  let c3_i32_137 : BitVec 32 := 3#32
  let v333 : BitVec 32 := Scalar.shrsi v332 c3_i32_137
  let c8191_i32_138 : BitVec 32 := 8191#32
  let v334 : BitVec 32 := Scalar.andi v333 c8191_i32_138
  let c8_i32_139 : BitVec 32 := 8#32
  let v335 : BitVec 32 := Scalar.muli v334 c8_i32_139
  let v336 : BitVec 32 := v335
  let v337 : Index := Scalar.indexCast v336
  let c0_140 : Index := 0#32
  ![v337.toNat, 0]
def k0_off1371 (v332 : BitVec 32) : Fin 2 → Nat :=
  let c3_i32_137 : BitVec 32 := 3#32
  let v333 : BitVec 32 := Scalar.shrsi v332 c3_i32_137
  let c8191_i32_138 : BitVec 32 := 8191#32
  let v334 : BitVec 32 := Scalar.andi v333 c8191_i32_138
  let v342 : Index := Scalar.indexCast v334
  let c0_142 : Index := 0#32
  ![v342.toNat, 0]

def k0_chk534 (i : grid0.Coords) (v48 : BitVec 32) (v332 : BitVec 32) : Prop :=
  (∀ (k0_h10 : k0_cond10 i v48 = 1#1), 8 ∣ (k0_mult528 v332).toNat) ∧
  (∀ (k0_h10 : k0_cond10 i v48 = 1#1), ∀ a, (k0_off1370 v332) a + S8x128.size a ≤ S65536x128.size a) ∧
  (∀ (k0_h10 : k0_cond10 i v48 = 1#1), ∀ a, (k0_off1371 v332) a + S1x128.size a ≤ S8192x128.size a)
theorem k0_mult528_dvd : ∀ (i : grid0.Coords) (v48 : BitVec 32) (v332 : BitVec 32) (k0_hw534 : k0_chk534 i v48 v332), ∀ (k0_h10 : k0_cond10 i v48 = 1#1), 8 ∣ (k0_mult528 v332).toNat := fun i v48 v332 k0_hw534 k0_h10 => k0_hw534.1 k0_h10
theorem k0_off1370_inb : ∀ (i : grid0.Coords) (v48 : BitVec 32) (v332 : BitVec 32) (k0_hw534 : k0_chk534 i v48 v332), ∀ (k0_h10 : k0_cond10 i v48 = 1#1), ∀ a, (k0_off1370 v332) a + S8x128.size a ≤ S65536x128.size a := fun i v48 v332 k0_hw534 k0_h10 => k0_hw534.2.1 k0_h10
theorem k0_off1371_inb : ∀ (i : grid0.Coords) (v48 : BitVec 32) (v332 : BitVec 32) (k0_hw534 : k0_chk534 i v48 v332), ∀ (k0_h10 : k0_cond10 i v48 = 1#1), ∀ a, (k0_off1371 v332) a + S1x128.size a ≤ S8192x128.size a := fun i v48 v332 k0_hw534 k0_h10 => k0_hw534.2.2 k0_h10

def k0_off1372 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c16_i32 : BitVec 32 := 16#32
  let v347 : BitVec 32 := Scalar.addi v74 c16_i32
  let v348 : Index := Scalar.indexCast v347
  ![v348.toNat]
def k0_mult529 (v349 : BitVec 32) : BitVec 32 :=
  let c3_i32_144 : BitVec 32 := 3#32
  let v350 : BitVec 32 := Scalar.shrsi v349 c3_i32_144
  let c8191_i32_145 : BitVec 32 := 8191#32
  let v351 : BitVec 32 := Scalar.andi v350 c8191_i32_145
  let c8_i32_146 : BitVec 32 := 8#32
  let v352 : BitVec 32 := Scalar.muli v351 c8_i32_146
  v352

def k0_off1373 (v349 : BitVec 32) : Fin 2 → Nat :=
  let c3_i32_144 : BitVec 32 := 3#32
  let v350 : BitVec 32 := Scalar.shrsi v349 c3_i32_144
  let c8191_i32_145 : BitVec 32 := 8191#32
  let v351 : BitVec 32 := Scalar.andi v350 c8191_i32_145
  let c8_i32_146 : BitVec 32 := 8#32
  let v352 : BitVec 32 := Scalar.muli v351 c8_i32_146
  let v353 : BitVec 32 := v352
  let v354 : Index := Scalar.indexCast v353
  let c0_147 : Index := 0#32
  ![v354.toNat, 0]
def k0_off1374 (v349 : BitVec 32) : Fin 2 → Nat :=
  let c3_i32_144 : BitVec 32 := 3#32
  let v350 : BitVec 32 := Scalar.shrsi v349 c3_i32_144
  let c8191_i32_145 : BitVec 32 := 8191#32
  let v351 : BitVec 32 := Scalar.andi v350 c8191_i32_145
  let v359 : Index := Scalar.indexCast v351
  let c0_149 : Index := 0#32
  ![v359.toNat, 0]

def k0_chk535 (i : grid0.Coords) (v48 : BitVec 32) (v349 : BitVec 32) : Prop :=
  (∀ (k0_h10 : k0_cond10 i v48 = 1#1), 8 ∣ (k0_mult529 v349).toNat) ∧
  (∀ (k0_h10 : k0_cond10 i v48 = 1#1), ∀ a, (k0_off1373 v349) a + S8x128.size a ≤ S65536x128.size a) ∧
  (∀ (k0_h10 : k0_cond10 i v48 = 1#1), ∀ a, (k0_off1374 v349) a + S1x128.size a ≤ S8192x128.size a)
theorem k0_mult529_dvd : ∀ (i : grid0.Coords) (v48 : BitVec 32) (v349 : BitVec 32) (k0_hw535 : k0_chk535 i v48 v349), ∀ (k0_h10 : k0_cond10 i v48 = 1#1), 8 ∣ (k0_mult529 v349).toNat := fun i v48 v349 k0_hw535 k0_h10 => k0_hw535.1 k0_h10
theorem k0_off1373_inb : ∀ (i : grid0.Coords) (v48 : BitVec 32) (v349 : BitVec 32) (k0_hw535 : k0_chk535 i v48 v349), ∀ (k0_h10 : k0_cond10 i v48 = 1#1), ∀ a, (k0_off1373 v349) a + S8x128.size a ≤ S65536x128.size a := fun i v48 v349 k0_hw535 k0_h10 => k0_hw535.2.1 k0_h10
theorem k0_off1374_inb : ∀ (i : grid0.Coords) (v48 : BitVec 32) (v349 : BitVec 32) (k0_hw535 : k0_chk535 i v48 v349), ∀ (k0_h10 : k0_cond10 i v48 = 1#1), ∀ a, (k0_off1374 v349) a + S1x128.size a ≤ S8192x128.size a := fun i v48 v349 k0_hw535 k0_h10 => k0_hw535.2.2 k0_h10

def k0_off1375 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c17_i32 : BitVec 32 := 17#32
  let v364 : BitVec 32 := Scalar.addi v74 c17_i32
  let v365 : Index := Scalar.indexCast v364
  ![v365.toNat]
def k0_mult530 (v366 : BitVec 32) : BitVec 32 :=
  let c3_i32_152 : BitVec 32 := 3#32
  let v367 : BitVec 32 := Scalar.shrsi v366 c3_i32_152
  let c8191_i32_153 : BitVec 32 := 8191#32
  let v368 : BitVec 32 := Scalar.andi v367 c8191_i32_153
  let c8_i32_154 : BitVec 32 := 8#32
  let v369 : BitVec 32 := Scalar.muli v368 c8_i32_154
  v369

def k0_off1376 (v366 : BitVec 32) : Fin 2 → Nat :=
  let c3_i32_152 : BitVec 32 := 3#32
  let v367 : BitVec 32 := Scalar.shrsi v366 c3_i32_152
  let c8191_i32_153 : BitVec 32 := 8191#32
  let v368 : BitVec 32 := Scalar.andi v367 c8191_i32_153
  let c8_i32_154 : BitVec 32 := 8#32
  let v369 : BitVec 32 := Scalar.muli v368 c8_i32_154
  let v370 : BitVec 32 := v369
  let v371 : Index := Scalar.indexCast v370
  let c0_155 : Index := 0#32
  ![v371.toNat, 0]
def k0_off1377 (v366 : BitVec 32) : Fin 2 → Nat :=
  let c3_i32_152 : BitVec 32 := 3#32
  let v367 : BitVec 32 := Scalar.shrsi v366 c3_i32_152
  let c8191_i32_153 : BitVec 32 := 8191#32
  let v368 : BitVec 32 := Scalar.andi v367 c8191_i32_153
  let v376 : Index := Scalar.indexCast v368
  let c0_157 : Index := 0#32
  ![v376.toNat, 0]

def k0_chk536 (i : grid0.Coords) (v48 : BitVec 32) (v366 : BitVec 32) : Prop :=
  (∀ (k0_h10 : k0_cond10 i v48 = 1#1), 8 ∣ (k0_mult530 v366).toNat) ∧
  (∀ (k0_h10 : k0_cond10 i v48 = 1#1), ∀ a, (k0_off1376 v366) a + S8x128.size a ≤ S65536x128.size a) ∧
  (∀ (k0_h10 : k0_cond10 i v48 = 1#1), ∀ a, (k0_off1377 v366) a + S1x128.size a ≤ S8192x128.size a)
theorem k0_mult530_dvd : ∀ (i : grid0.Coords) (v48 : BitVec 32) (v366 : BitVec 32) (k0_hw536 : k0_chk536 i v48 v366), ∀ (k0_h10 : k0_cond10 i v48 = 1#1), 8 ∣ (k0_mult530 v366).toNat := fun i v48 v366 k0_hw536 k0_h10 => k0_hw536.1 k0_h10
theorem k0_off1376_inb : ∀ (i : grid0.Coords) (v48 : BitVec 32) (v366 : BitVec 32) (k0_hw536 : k0_chk536 i v48 v366), ∀ (k0_h10 : k0_cond10 i v48 = 1#1), ∀ a, (k0_off1376 v366) a + S8x128.size a ≤ S65536x128.size a := fun i v48 v366 k0_hw536 k0_h10 => k0_hw536.2.1 k0_h10
theorem k0_off1377_inb : ∀ (i : grid0.Coords) (v48 : BitVec 32) (v366 : BitVec 32) (k0_hw536 : k0_chk536 i v48 v366), ∀ (k0_h10 : k0_cond10 i v48 = 1#1), ∀ a, (k0_off1377 v366) a + S1x128.size a ≤ S8192x128.size a := fun i v48 v366 k0_hw536 k0_h10 => k0_hw536.2.2 k0_h10

def k0_off1378 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c18_i32 : BitVec 32 := 18#32
  let v381 : BitVec 32 := Scalar.addi v74 c18_i32
  let v382 : Index := Scalar.indexCast v381
  ![v382.toNat]
def k0_mult531 (v383 : BitVec 32) : BitVec 32 :=
  let c3_i32_159 : BitVec 32 := 3#32
  let v384 : BitVec 32 := Scalar.shrsi v383 c3_i32_159
  let c8191_i32_160 : BitVec 32 := 8191#32
  let v385 : BitVec 32 := Scalar.andi v384 c8191_i32_160
  let c8_i32_161 : BitVec 32 := 8#32
  let v386 : BitVec 32 := Scalar.muli v385 c8_i32_161
  v386

def k0_off1379 (v383 : BitVec 32) : Fin 2 → Nat :=
  let c3_i32_159 : BitVec 32 := 3#32
  let v384 : BitVec 32 := Scalar.shrsi v383 c3_i32_159
  let c8191_i32_160 : BitVec 32 := 8191#32
  let v385 : BitVec 32 := Scalar.andi v384 c8191_i32_160
  let c8_i32_161 : BitVec 32 := 8#32
  let v386 : BitVec 32 := Scalar.muli v385 c8_i32_161
  let v387 : BitVec 32 := v386
  let v388 : Index := Scalar.indexCast v387
  let c0_162 : Index := 0#32
  ![v388.toNat, 0]
def k0_off1380 (v383 : BitVec 32) : Fin 2 → Nat :=
  let c3_i32_159 : BitVec 32 := 3#32
  let v384 : BitVec 32 := Scalar.shrsi v383 c3_i32_159
  let c8191_i32_160 : BitVec 32 := 8191#32
  let v385 : BitVec 32 := Scalar.andi v384 c8191_i32_160
  let v393 : Index := Scalar.indexCast v385
  let c0_164 : Index := 0#32
  ![v393.toNat, 0]

def k0_chk537 (i : grid0.Coords) (v48 : BitVec 32) (v383 : BitVec 32) : Prop :=
  (∀ (k0_h10 : k0_cond10 i v48 = 1#1), 8 ∣ (k0_mult531 v383).toNat) ∧
  (∀ (k0_h10 : k0_cond10 i v48 = 1#1), ∀ a, (k0_off1379 v383) a + S8x128.size a ≤ S65536x128.size a) ∧
  (∀ (k0_h10 : k0_cond10 i v48 = 1#1), ∀ a, (k0_off1380 v383) a + S1x128.size a ≤ S8192x128.size a)
theorem k0_mult531_dvd : ∀ (i : grid0.Coords) (v48 : BitVec 32) (v383 : BitVec 32) (k0_hw537 : k0_chk537 i v48 v383), ∀ (k0_h10 : k0_cond10 i v48 = 1#1), 8 ∣ (k0_mult531 v383).toNat := fun i v48 v383 k0_hw537 k0_h10 => k0_hw537.1 k0_h10
theorem k0_off1379_inb : ∀ (i : grid0.Coords) (v48 : BitVec 32) (v383 : BitVec 32) (k0_hw537 : k0_chk537 i v48 v383), ∀ (k0_h10 : k0_cond10 i v48 = 1#1), ∀ a, (k0_off1379 v383) a + S8x128.size a ≤ S65536x128.size a := fun i v48 v383 k0_hw537 k0_h10 => k0_hw537.2.1 k0_h10
theorem k0_off1380_inb : ∀ (i : grid0.Coords) (v48 : BitVec 32) (v383 : BitVec 32) (k0_hw537 : k0_chk537 i v48 v383), ∀ (k0_h10 : k0_cond10 i v48 = 1#1), ∀ a, (k0_off1380 v383) a + S1x128.size a ≤ S8192x128.size a := fun i v48 v383 k0_hw537 k0_h10 => k0_hw537.2.2 k0_h10

def k0_off1381 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c19_i32 : BitVec 32 := 19#32
  let v398 : BitVec 32 := Scalar.addi v74 c19_i32
  let v399 : Index := Scalar.indexCast v398
  ![v399.toNat]
def k0_mult532 (v400 : BitVec 32) : BitVec 32 :=
  let c3_i32_166 : BitVec 32 := 3#32
  let v401 : BitVec 32 := Scalar.shrsi v400 c3_i32_166
  let c8191_i32_167 : BitVec 32 := 8191#32
  let v402 : BitVec 32 := Scalar.andi v401 c8191_i32_167
  let c8_i32_168 : BitVec 32 := 8#32
  let v403 : BitVec 32 := Scalar.muli v402 c8_i32_168
  v403

def k0_off1382 (v400 : BitVec 32) : Fin 2 → Nat :=
  let c3_i32_166 : BitVec 32 := 3#32
  let v401 : BitVec 32 := Scalar.shrsi v400 c3_i32_166
  let c8191_i32_167 : BitVec 32 := 8191#32
  let v402 : BitVec 32 := Scalar.andi v401 c8191_i32_167
  let c8_i32_168 : BitVec 32 := 8#32
  let v403 : BitVec 32 := Scalar.muli v402 c8_i32_168
  let v404 : BitVec 32 := v403
  let v405 : Index := Scalar.indexCast v404
  let c0_169 : Index := 0#32
  ![v405.toNat, 0]
def k0_off1383 (v400 : BitVec 32) : Fin 2 → Nat :=
  let c3_i32_166 : BitVec 32 := 3#32
  let v401 : BitVec 32 := Scalar.shrsi v400 c3_i32_166
  let c8191_i32_167 : BitVec 32 := 8191#32
  let v402 : BitVec 32 := Scalar.andi v401 c8191_i32_167
  let v410 : Index := Scalar.indexCast v402
  let c0_171 : Index := 0#32
  ![v410.toNat, 0]

def k0_chk538 (i : grid0.Coords) (v48 : BitVec 32) (v400 : BitVec 32) : Prop :=
  (∀ (k0_h10 : k0_cond10 i v48 = 1#1), 8 ∣ (k0_mult532 v400).toNat) ∧
  (∀ (k0_h10 : k0_cond10 i v48 = 1#1), ∀ a, (k0_off1382 v400) a + S8x128.size a ≤ S65536x128.size a) ∧
  (∀ (k0_h10 : k0_cond10 i v48 = 1#1), ∀ a, (k0_off1383 v400) a + S1x128.size a ≤ S8192x128.size a)
theorem k0_mult532_dvd : ∀ (i : grid0.Coords) (v48 : BitVec 32) (v400 : BitVec 32) (k0_hw538 : k0_chk538 i v48 v400), ∀ (k0_h10 : k0_cond10 i v48 = 1#1), 8 ∣ (k0_mult532 v400).toNat := fun i v48 v400 k0_hw538 k0_h10 => k0_hw538.1 k0_h10
theorem k0_off1382_inb : ∀ (i : grid0.Coords) (v48 : BitVec 32) (v400 : BitVec 32) (k0_hw538 : k0_chk538 i v48 v400), ∀ (k0_h10 : k0_cond10 i v48 = 1#1), ∀ a, (k0_off1382 v400) a + S8x128.size a ≤ S65536x128.size a := fun i v48 v400 k0_hw538 k0_h10 => k0_hw538.2.1 k0_h10
theorem k0_off1383_inb : ∀ (i : grid0.Coords) (v48 : BitVec 32) (v400 : BitVec 32) (k0_hw538 : k0_chk538 i v48 v400), ∀ (k0_h10 : k0_cond10 i v48 = 1#1), ∀ a, (k0_off1383 v400) a + S1x128.size a ≤ S8192x128.size a := fun i v48 v400 k0_hw538 k0_h10 => k0_hw538.2.2 k0_h10

def k0_off1384 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c20_i32 : BitVec 32 := 20#32
  let v415 : BitVec 32 := Scalar.addi v74 c20_i32
  let v416 : Index := Scalar.indexCast v415
  ![v416.toNat]
def k0_mult533 (v417 : BitVec 32) : BitVec 32 :=
  let c3_i32_173 : BitVec 32 := 3#32
  let v418 : BitVec 32 := Scalar.shrsi v417 c3_i32_173
  let c8191_i32_174 : BitVec 32 := 8191#32
  let v419 : BitVec 32 := Scalar.andi v418 c8191_i32_174
  let c8_i32_175 : BitVec 32 := 8#32
  let v420 : BitVec 32 := Scalar.muli v419 c8_i32_175
  v420

def k0_off1385 (v417 : BitVec 32) : Fin 2 → Nat :=
  let c3_i32_173 : BitVec 32 := 3#32
  let v418 : BitVec 32 := Scalar.shrsi v417 c3_i32_173
  let c8191_i32_174 : BitVec 32 := 8191#32
  let v419 : BitVec 32 := Scalar.andi v418 c8191_i32_174
  let c8_i32_175 : BitVec 32 := 8#32
  let v420 : BitVec 32 := Scalar.muli v419 c8_i32_175
  let v421 : BitVec 32 := v420
  let v422 : Index := Scalar.indexCast v421
  let c0_176 : Index := 0#32
  ![v422.toNat, 0]
def k0_off1386 (v417 : BitVec 32) : Fin 2 → Nat :=
  let c3_i32_173 : BitVec 32 := 3#32
  let v418 : BitVec 32 := Scalar.shrsi v417 c3_i32_173
  let c8191_i32_174 : BitVec 32 := 8191#32
  let v419 : BitVec 32 := Scalar.andi v418 c8191_i32_174
  let v427 : Index := Scalar.indexCast v419
  let c0_178 : Index := 0#32
  ![v427.toNat, 0]

def k0_chk539 (i : grid0.Coords) (v48 : BitVec 32) (v417 : BitVec 32) : Prop :=
  (∀ (k0_h10 : k0_cond10 i v48 = 1#1), 8 ∣ (k0_mult533 v417).toNat) ∧
  (∀ (k0_h10 : k0_cond10 i v48 = 1#1), ∀ a, (k0_off1385 v417) a + S8x128.size a ≤ S65536x128.size a) ∧
  (∀ (k0_h10 : k0_cond10 i v48 = 1#1), ∀ a, (k0_off1386 v417) a + S1x128.size a ≤ S8192x128.size a)
theorem k0_mult533_dvd : ∀ (i : grid0.Coords) (v48 : BitVec 32) (v417 : BitVec 32) (k0_hw539 : k0_chk539 i v48 v417), ∀ (k0_h10 : k0_cond10 i v48 = 1#1), 8 ∣ (k0_mult533 v417).toNat := fun i v48 v417 k0_hw539 k0_h10 => k0_hw539.1 k0_h10
theorem k0_off1385_inb : ∀ (i : grid0.Coords) (v48 : BitVec 32) (v417 : BitVec 32) (k0_hw539 : k0_chk539 i v48 v417), ∀ (k0_h10 : k0_cond10 i v48 = 1#1), ∀ a, (k0_off1385 v417) a + S8x128.size a ≤ S65536x128.size a := fun i v48 v417 k0_hw539 k0_h10 => k0_hw539.2.1 k0_h10
theorem k0_off1386_inb : ∀ (i : grid0.Coords) (v48 : BitVec 32) (v417 : BitVec 32) (k0_hw539 : k0_chk539 i v48 v417), ∀ (k0_h10 : k0_cond10 i v48 = 1#1), ∀ a, (k0_off1386 v417) a + S1x128.size a ≤ S8192x128.size a := fun i v48 v417 k0_hw539 k0_h10 => k0_hw539.2.2 k0_h10

def k0_off1387 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c21_i32 : BitVec 32 := 21#32
  let v432 : BitVec 32 := Scalar.addi v74 c21_i32
  let v433 : Index := Scalar.indexCast v432
  ![v433.toNat]
def k0_mult534 (v434 : BitVec 32) : BitVec 32 :=
  let c3_i32_180 : BitVec 32 := 3#32
  let v435 : BitVec 32 := Scalar.shrsi v434 c3_i32_180
  let c8191_i32_181 : BitVec 32 := 8191#32
  let v436 : BitVec 32 := Scalar.andi v435 c8191_i32_181
  let c8_i32_182 : BitVec 32 := 8#32
  let v437 : BitVec 32 := Scalar.muli v436 c8_i32_182
  v437

def k0_off1388 (v434 : BitVec 32) : Fin 2 → Nat :=
  let c3_i32_180 : BitVec 32 := 3#32
  let v435 : BitVec 32 := Scalar.shrsi v434 c3_i32_180
  let c8191_i32_181 : BitVec 32 := 8191#32
  let v436 : BitVec 32 := Scalar.andi v435 c8191_i32_181
  let c8_i32_182 : BitVec 32 := 8#32
  let v437 : BitVec 32 := Scalar.muli v436 c8_i32_182
  let v438 : BitVec 32 := v437
  let v439 : Index := Scalar.indexCast v438
  let c0_183 : Index := 0#32
  ![v439.toNat, 0]
def k0_off1389 (v434 : BitVec 32) : Fin 2 → Nat :=
  let c3_i32_180 : BitVec 32 := 3#32
  let v435 : BitVec 32 := Scalar.shrsi v434 c3_i32_180
  let c8191_i32_181 : BitVec 32 := 8191#32
  let v436 : BitVec 32 := Scalar.andi v435 c8191_i32_181
  let v444 : Index := Scalar.indexCast v436
  let c0_185 : Index := 0#32
  ![v444.toNat, 0]

def k0_chk540 (i : grid0.Coords) (v48 : BitVec 32) (v434 : BitVec 32) : Prop :=
  (∀ (k0_h10 : k0_cond10 i v48 = 1#1), 8 ∣ (k0_mult534 v434).toNat) ∧
  (∀ (k0_h10 : k0_cond10 i v48 = 1#1), ∀ a, (k0_off1388 v434) a + S8x128.size a ≤ S65536x128.size a) ∧
  (∀ (k0_h10 : k0_cond10 i v48 = 1#1), ∀ a, (k0_off1389 v434) a + S1x128.size a ≤ S8192x128.size a)
theorem k0_mult534_dvd : ∀ (i : grid0.Coords) (v48 : BitVec 32) (v434 : BitVec 32) (k0_hw540 : k0_chk540 i v48 v434), ∀ (k0_h10 : k0_cond10 i v48 = 1#1), 8 ∣ (k0_mult534 v434).toNat := fun i v48 v434 k0_hw540 k0_h10 => k0_hw540.1 k0_h10
theorem k0_off1388_inb : ∀ (i : grid0.Coords) (v48 : BitVec 32) (v434 : BitVec 32) (k0_hw540 : k0_chk540 i v48 v434), ∀ (k0_h10 : k0_cond10 i v48 = 1#1), ∀ a, (k0_off1388 v434) a + S8x128.size a ≤ S65536x128.size a := fun i v48 v434 k0_hw540 k0_h10 => k0_hw540.2.1 k0_h10
theorem k0_off1389_inb : ∀ (i : grid0.Coords) (v48 : BitVec 32) (v434 : BitVec 32) (k0_hw540 : k0_chk540 i v48 v434), ∀ (k0_h10 : k0_cond10 i v48 = 1#1), ∀ a, (k0_off1389 v434) a + S1x128.size a ≤ S8192x128.size a := fun i v48 v434 k0_hw540 k0_h10 => k0_hw540.2.2 k0_h10

def k0_off1390 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c22_i32 : BitVec 32 := 22#32
  let v449 : BitVec 32 := Scalar.addi v74 c22_i32
  let v450 : Index := Scalar.indexCast v449
  ![v450.toNat]
def k0_mult535 (v451 : BitVec 32) : BitVec 32 :=
  let c3_i32_187 : BitVec 32 := 3#32
  let v452 : BitVec 32 := Scalar.shrsi v451 c3_i32_187
  let c8191_i32_188 : BitVec 32 := 8191#32
  let v453 : BitVec 32 := Scalar.andi v452 c8191_i32_188
  let c8_i32_189 : BitVec 32 := 8#32
  let v454 : BitVec 32 := Scalar.muli v453 c8_i32_189
  v454

def k0_off1391 (v451 : BitVec 32) : Fin 2 → Nat :=
  let c3_i32_187 : BitVec 32 := 3#32
  let v452 : BitVec 32 := Scalar.shrsi v451 c3_i32_187
  let c8191_i32_188 : BitVec 32 := 8191#32
  let v453 : BitVec 32 := Scalar.andi v452 c8191_i32_188
  let c8_i32_189 : BitVec 32 := 8#32
  let v454 : BitVec 32 := Scalar.muli v453 c8_i32_189
  let v455 : BitVec 32 := v454
  let v456 : Index := Scalar.indexCast v455
  let c0_190 : Index := 0#32
  ![v456.toNat, 0]
def k0_off1392 (v451 : BitVec 32) : Fin 2 → Nat :=
  let c3_i32_187 : BitVec 32 := 3#32
  let v452 : BitVec 32 := Scalar.shrsi v451 c3_i32_187
  let c8191_i32_188 : BitVec 32 := 8191#32
  let v453 : BitVec 32 := Scalar.andi v452 c8191_i32_188
  let v461 : Index := Scalar.indexCast v453
  let c0_192 : Index := 0#32
  ![v461.toNat, 0]

def k0_chk541 (i : grid0.Coords) (v48 : BitVec 32) (v451 : BitVec 32) : Prop :=
  (∀ (k0_h10 : k0_cond10 i v48 = 1#1), 8 ∣ (k0_mult535 v451).toNat) ∧
  (∀ (k0_h10 : k0_cond10 i v48 = 1#1), ∀ a, (k0_off1391 v451) a + S8x128.size a ≤ S65536x128.size a) ∧
  (∀ (k0_h10 : k0_cond10 i v48 = 1#1), ∀ a, (k0_off1392 v451) a + S1x128.size a ≤ S8192x128.size a)
theorem k0_mult535_dvd : ∀ (i : grid0.Coords) (v48 : BitVec 32) (v451 : BitVec 32) (k0_hw541 : k0_chk541 i v48 v451), ∀ (k0_h10 : k0_cond10 i v48 = 1#1), 8 ∣ (k0_mult535 v451).toNat := fun i v48 v451 k0_hw541 k0_h10 => k0_hw541.1 k0_h10
theorem k0_off1391_inb : ∀ (i : grid0.Coords) (v48 : BitVec 32) (v451 : BitVec 32) (k0_hw541 : k0_chk541 i v48 v451), ∀ (k0_h10 : k0_cond10 i v48 = 1#1), ∀ a, (k0_off1391 v451) a + S8x128.size a ≤ S65536x128.size a := fun i v48 v451 k0_hw541 k0_h10 => k0_hw541.2.1 k0_h10
theorem k0_off1392_inb : ∀ (i : grid0.Coords) (v48 : BitVec 32) (v451 : BitVec 32) (k0_hw541 : k0_chk541 i v48 v451), ∀ (k0_h10 : k0_cond10 i v48 = 1#1), ∀ a, (k0_off1392 v451) a + S1x128.size a ≤ S8192x128.size a := fun i v48 v451 k0_hw541 k0_h10 => k0_hw541.2.2 k0_h10

def k0_off1393 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c23_i32 : BitVec 32 := 23#32
  let v466 : BitVec 32 := Scalar.addi v74 c23_i32
  let v467 : Index := Scalar.indexCast v466
  ![v467.toNat]
def k0_mult536 (v468 : BitVec 32) : BitVec 32 :=
  let c3_i32_194 : BitVec 32 := 3#32
  let v469 : BitVec 32 := Scalar.shrsi v468 c3_i32_194
  let c8191_i32_195 : BitVec 32 := 8191#32
  let v470 : BitVec 32 := Scalar.andi v469 c8191_i32_195
  let c8_i32_196 : BitVec 32 := 8#32
  let v471 : BitVec 32 := Scalar.muli v470 c8_i32_196
  v471

def k0_off1394 (v468 : BitVec 32) : Fin 2 → Nat :=
  let c3_i32_194 : BitVec 32 := 3#32
  let v469 : BitVec 32 := Scalar.shrsi v468 c3_i32_194
  let c8191_i32_195 : BitVec 32 := 8191#32
  let v470 : BitVec 32 := Scalar.andi v469 c8191_i32_195
  let c8_i32_196 : BitVec 32 := 8#32
  let v471 : BitVec 32 := Scalar.muli v470 c8_i32_196
  let v472 : BitVec 32 := v471
  let v473 : Index := Scalar.indexCast v472
  let c0_197 : Index := 0#32
  ![v473.toNat, 0]
def k0_off1395 (v468 : BitVec 32) : Fin 2 → Nat :=
  let c3_i32_194 : BitVec 32 := 3#32
  let v469 : BitVec 32 := Scalar.shrsi v468 c3_i32_194
  let c8191_i32_195 : BitVec 32 := 8191#32
  let v470 : BitVec 32 := Scalar.andi v469 c8191_i32_195
  let v478 : Index := Scalar.indexCast v470
  let c0_199 : Index := 0#32
  ![v478.toNat, 0]

def k0_chk542 (i : grid0.Coords) (v48 : BitVec 32) (v468 : BitVec 32) : Prop :=
  (∀ (k0_h10 : k0_cond10 i v48 = 1#1), 8 ∣ (k0_mult536 v468).toNat) ∧
  (∀ (k0_h10 : k0_cond10 i v48 = 1#1), ∀ a, (k0_off1394 v468) a + S8x128.size a ≤ S65536x128.size a) ∧
  (∀ (k0_h10 : k0_cond10 i v48 = 1#1), ∀ a, (k0_off1395 v468) a + S1x128.size a ≤ S8192x128.size a)
theorem k0_mult536_dvd : ∀ (i : grid0.Coords) (v48 : BitVec 32) (v468 : BitVec 32) (k0_hw542 : k0_chk542 i v48 v468), ∀ (k0_h10 : k0_cond10 i v48 = 1#1), 8 ∣ (k0_mult536 v468).toNat := fun i v48 v468 k0_hw542 k0_h10 => k0_hw542.1 k0_h10
theorem k0_off1394_inb : ∀ (i : grid0.Coords) (v48 : BitVec 32) (v468 : BitVec 32) (k0_hw542 : k0_chk542 i v48 v468), ∀ (k0_h10 : k0_cond10 i v48 = 1#1), ∀ a, (k0_off1394 v468) a + S8x128.size a ≤ S65536x128.size a := fun i v48 v468 k0_hw542 k0_h10 => k0_hw542.2.1 k0_h10
theorem k0_off1395_inb : ∀ (i : grid0.Coords) (v48 : BitVec 32) (v468 : BitVec 32) (k0_hw542 : k0_chk542 i v48 v468), ∀ (k0_h10 : k0_cond10 i v48 = 1#1), ∀ a, (k0_off1395 v468) a + S1x128.size a ≤ S8192x128.size a := fun i v48 v468 k0_hw542 k0_h10 => k0_hw542.2.2 k0_h10

def k0_off1396 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c24_i32 : BitVec 32 := 24#32
  let v483 : BitVec 32 := Scalar.addi v74 c24_i32
  let v484 : Index := Scalar.indexCast v483
  ![v484.toNat]
def k0_mult537 (v485 : BitVec 32) : BitVec 32 :=
  let c3_i32_201 : BitVec 32 := 3#32
  let v486 : BitVec 32 := Scalar.shrsi v485 c3_i32_201
  let c8191_i32_202 : BitVec 32 := 8191#32
  let v487 : BitVec 32 := Scalar.andi v486 c8191_i32_202
  let c8_i32_203 : BitVec 32 := 8#32
  let v488 : BitVec 32 := Scalar.muli v487 c8_i32_203
  v488

def k0_off1397 (v485 : BitVec 32) : Fin 2 → Nat :=
  let c3_i32_201 : BitVec 32 := 3#32
  let v486 : BitVec 32 := Scalar.shrsi v485 c3_i32_201
  let c8191_i32_202 : BitVec 32 := 8191#32
  let v487 : BitVec 32 := Scalar.andi v486 c8191_i32_202
  let c8_i32_203 : BitVec 32 := 8#32
  let v488 : BitVec 32 := Scalar.muli v487 c8_i32_203
  let v489 : BitVec 32 := v488
  let v490 : Index := Scalar.indexCast v489
  let c0_204 : Index := 0#32
  ![v490.toNat, 0]
def k0_off1398 (v485 : BitVec 32) : Fin 2 → Nat :=
  let c3_i32_201 : BitVec 32 := 3#32
  let v486 : BitVec 32 := Scalar.shrsi v485 c3_i32_201
  let c8191_i32_202 : BitVec 32 := 8191#32
  let v487 : BitVec 32 := Scalar.andi v486 c8191_i32_202
  let v495 : Index := Scalar.indexCast v487
  let c0_206 : Index := 0#32
  ![v495.toNat, 0]

def k0_chk543 (i : grid0.Coords) (v48 : BitVec 32) (v485 : BitVec 32) : Prop :=
  (∀ (k0_h10 : k0_cond10 i v48 = 1#1), 8 ∣ (k0_mult537 v485).toNat) ∧
  (∀ (k0_h10 : k0_cond10 i v48 = 1#1), ∀ a, (k0_off1397 v485) a + S8x128.size a ≤ S65536x128.size a) ∧
  (∀ (k0_h10 : k0_cond10 i v48 = 1#1), ∀ a, (k0_off1398 v485) a + S1x128.size a ≤ S8192x128.size a)
theorem k0_mult537_dvd : ∀ (i : grid0.Coords) (v48 : BitVec 32) (v485 : BitVec 32) (k0_hw543 : k0_chk543 i v48 v485), ∀ (k0_h10 : k0_cond10 i v48 = 1#1), 8 ∣ (k0_mult537 v485).toNat := fun i v48 v485 k0_hw543 k0_h10 => k0_hw543.1 k0_h10
theorem k0_off1397_inb : ∀ (i : grid0.Coords) (v48 : BitVec 32) (v485 : BitVec 32) (k0_hw543 : k0_chk543 i v48 v485), ∀ (k0_h10 : k0_cond10 i v48 = 1#1), ∀ a, (k0_off1397 v485) a + S8x128.size a ≤ S65536x128.size a := fun i v48 v485 k0_hw543 k0_h10 => k0_hw543.2.1 k0_h10
theorem k0_off1398_inb : ∀ (i : grid0.Coords) (v48 : BitVec 32) (v485 : BitVec 32) (k0_hw543 : k0_chk543 i v48 v485), ∀ (k0_h10 : k0_cond10 i v48 = 1#1), ∀ a, (k0_off1398 v485) a + S1x128.size a ≤ S8192x128.size a := fun i v48 v485 k0_hw543 k0_h10 => k0_hw543.2.2 k0_h10

def k0_off1399 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c25_i32 : BitVec 32 := 25#32
  let v500 : BitVec 32 := Scalar.addi v74 c25_i32
  let v501 : Index := Scalar.indexCast v500
  ![v501.toNat]
def k0_mult538 (v502 : BitVec 32) : BitVec 32 :=
  let c3_i32_209 : BitVec 32 := 3#32
  let v503 : BitVec 32 := Scalar.shrsi v502 c3_i32_209
  let c8191_i32_210 : BitVec 32 := 8191#32
  let v504 : BitVec 32 := Scalar.andi v503 c8191_i32_210
  let c8_i32_211 : BitVec 32 := 8#32
  let v505 : BitVec 32 := Scalar.muli v504 c8_i32_211
  v505

def k0_off1400 (v502 : BitVec 32) : Fin 2 → Nat :=
  let c3_i32_209 : BitVec 32 := 3#32
  let v503 : BitVec 32 := Scalar.shrsi v502 c3_i32_209
  let c8191_i32_210 : BitVec 32 := 8191#32
  let v504 : BitVec 32 := Scalar.andi v503 c8191_i32_210
  let c8_i32_211 : BitVec 32 := 8#32
  let v505 : BitVec 32 := Scalar.muli v504 c8_i32_211
  let v506 : BitVec 32 := v505
  let v507 : Index := Scalar.indexCast v506
  let c0_212 : Index := 0#32
  ![v507.toNat, 0]
def k0_off1401 (v502 : BitVec 32) : Fin 2 → Nat :=
  let c3_i32_209 : BitVec 32 := 3#32
  let v503 : BitVec 32 := Scalar.shrsi v502 c3_i32_209
  let c8191_i32_210 : BitVec 32 := 8191#32
  let v504 : BitVec 32 := Scalar.andi v503 c8191_i32_210
  let v512 : Index := Scalar.indexCast v504
  let c0_214 : Index := 0#32
  ![v512.toNat, 0]

def k0_chk544 (i : grid0.Coords) (v48 : BitVec 32) (v502 : BitVec 32) : Prop :=
  (∀ (k0_h10 : k0_cond10 i v48 = 1#1), 8 ∣ (k0_mult538 v502).toNat) ∧
  (∀ (k0_h10 : k0_cond10 i v48 = 1#1), ∀ a, (k0_off1400 v502) a + S8x128.size a ≤ S65536x128.size a) ∧
  (∀ (k0_h10 : k0_cond10 i v48 = 1#1), ∀ a, (k0_off1401 v502) a + S1x128.size a ≤ S8192x128.size a)
theorem k0_mult538_dvd : ∀ (i : grid0.Coords) (v48 : BitVec 32) (v502 : BitVec 32) (k0_hw544 : k0_chk544 i v48 v502), ∀ (k0_h10 : k0_cond10 i v48 = 1#1), 8 ∣ (k0_mult538 v502).toNat := fun i v48 v502 k0_hw544 k0_h10 => k0_hw544.1 k0_h10
theorem k0_off1400_inb : ∀ (i : grid0.Coords) (v48 : BitVec 32) (v502 : BitVec 32) (k0_hw544 : k0_chk544 i v48 v502), ∀ (k0_h10 : k0_cond10 i v48 = 1#1), ∀ a, (k0_off1400 v502) a + S8x128.size a ≤ S65536x128.size a := fun i v48 v502 k0_hw544 k0_h10 => k0_hw544.2.1 k0_h10
theorem k0_off1401_inb : ∀ (i : grid0.Coords) (v48 : BitVec 32) (v502 : BitVec 32) (k0_hw544 : k0_chk544 i v48 v502), ∀ (k0_h10 : k0_cond10 i v48 = 1#1), ∀ a, (k0_off1401 v502) a + S1x128.size a ≤ S8192x128.size a := fun i v48 v502 k0_hw544 k0_h10 => k0_hw544.2.2 k0_h10

def k0_off1402 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c26_i32 : BitVec 32 := 26#32
  let v517 : BitVec 32 := Scalar.addi v74 c26_i32
  let v518 : Index := Scalar.indexCast v517
  ![v518.toNat]
def k0_mult539 (v519 : BitVec 32) : BitVec 32 :=
  let c3_i32_216 : BitVec 32 := 3#32
  let v520 : BitVec 32 := Scalar.shrsi v519 c3_i32_216
  let c8191_i32_217 : BitVec 32 := 8191#32
  let v521 : BitVec 32 := Scalar.andi v520 c8191_i32_217
  let c8_i32_218 : BitVec 32 := 8#32
  let v522 : BitVec 32 := Scalar.muli v521 c8_i32_218
  v522

def k0_off1403 (v519 : BitVec 32) : Fin 2 → Nat :=
  let c3_i32_216 : BitVec 32 := 3#32
  let v520 : BitVec 32 := Scalar.shrsi v519 c3_i32_216
  let c8191_i32_217 : BitVec 32 := 8191#32
  let v521 : BitVec 32 := Scalar.andi v520 c8191_i32_217
  let c8_i32_218 : BitVec 32 := 8#32
  let v522 : BitVec 32 := Scalar.muli v521 c8_i32_218
  let v523 : BitVec 32 := v522
  let v524 : Index := Scalar.indexCast v523
  let c0_219 : Index := 0#32
  ![v524.toNat, 0]

variable {F : FTy → Type} [FloatOps F]

def k0_off1404 (v519 : BitVec 32) : Fin 2 → Nat :=
  let c3_i32_216 : BitVec 32 := 3#32
  let v520 : BitVec 32 := Scalar.shrsi v519 c3_i32_216
  let c8191_i32_217 : BitVec 32 := 8191#32
  let v521 : BitVec 32 := Scalar.andi v520 c8191_i32_217
  let v529 : Index := Scalar.indexCast v521
  let c0_221 : Index := 0#32
  ![v529.toNat, 0]

def k0_chk545 (i : grid0.Coords) (v48 : BitVec 32) (v519 : BitVec 32) : Prop :=
  (∀ (k0_h10 : k0_cond10 i v48 = 1#1), 8 ∣ (k0_mult539 v519).toNat) ∧
  (∀ (k0_h10 : k0_cond10 i v48 = 1#1), ∀ a, (k0_off1403 v519) a + S8x128.size a ≤ S65536x128.size a) ∧
  (∀ (k0_h10 : k0_cond10 i v48 = 1#1), ∀ a, (k0_off1404 v519) a + S1x128.size a ≤ S8192x128.size a)
theorem k0_mult539_dvd : ∀ (i : grid0.Coords) (v48 : BitVec 32) (v519 : BitVec 32) (k0_hw545 : k0_chk545 i v48 v519), ∀ (k0_h10 : k0_cond10 i v48 = 1#1), 8 ∣ (k0_mult539 v519).toNat := fun i v48 v519 k0_hw545 k0_h10 => k0_hw545.1 k0_h10
theorem k0_off1403_inb : ∀ (i : grid0.Coords) (v48 : BitVec 32) (v519 : BitVec 32) (k0_hw545 : k0_chk545 i v48 v519), ∀ (k0_h10 : k0_cond10 i v48 = 1#1), ∀ a, (k0_off1403 v519) a + S8x128.size a ≤ S65536x128.size a := fun i v48 v519 k0_hw545 k0_h10 => k0_hw545.2.1 k0_h10
theorem k0_off1404_inb : ∀ (i : grid0.Coords) (v48 : BitVec 32) (v519 : BitVec 32) (k0_hw545 : k0_chk545 i v48 v519), ∀ (k0_h10 : k0_cond10 i v48 = 1#1), ∀ a, (k0_off1404 v519) a + S1x128.size a ≤ S8192x128.size a := fun i v48 v519 k0_hw545 k0_h10 => k0_hw545.2.2 k0_h10

def k0_off1405 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c27_i32 : BitVec 32 := 27#32
  let v534 : BitVec 32 := Scalar.addi v74 c27_i32
  let v535 : Index := Scalar.indexCast v534
  ![v535.toNat]
def k0_mult540 (v536 : BitVec 32) : BitVec 32 :=
  let c3_i32_223 : BitVec 32 := 3#32
  let v537 : BitVec 32 := Scalar.shrsi v536 c3_i32_223
  let c8191_i32_224 : BitVec 32 := 8191#32
  let v538 : BitVec 32 := Scalar.andi v537 c8191_i32_224
  let c8_i32_225 : BitVec 32 := 8#32
  let v539 : BitVec 32 := Scalar.muli v538 c8_i32_225
  v539

def k0_off1406 (v536 : BitVec 32) : Fin 2 → Nat :=
  let c3_i32_223 : BitVec 32 := 3#32
  let v537 : BitVec 32 := Scalar.shrsi v536 c3_i32_223
  let c8191_i32_224 : BitVec 32 := 8191#32
  let v538 : BitVec 32 := Scalar.andi v537 c8191_i32_224
  let c8_i32_225 : BitVec 32 := 8#32
  let v539 : BitVec 32 := Scalar.muli v538 c8_i32_225
  let v540 : BitVec 32 := v539
  let v541 : Index := Scalar.indexCast v540
  let c0_226 : Index := 0#32
  ![v541.toNat, 0]
def k0_off1407 (v536 : BitVec 32) : Fin 2 → Nat :=
  let c3_i32_223 : BitVec 32 := 3#32
  let v537 : BitVec 32 := Scalar.shrsi v536 c3_i32_223
  let c8191_i32_224 : BitVec 32 := 8191#32
  let v538 : BitVec 32 := Scalar.andi v537 c8191_i32_224
  let v546 : Index := Scalar.indexCast v538
  let c0_228 : Index := 0#32
  ![v546.toNat, 0]

def k0_chk546 (i : grid0.Coords) (v48 : BitVec 32) (v536 : BitVec 32) : Prop :=
  (∀ (k0_h10 : k0_cond10 i v48 = 1#1), 8 ∣ (k0_mult540 v536).toNat) ∧
  (∀ (k0_h10 : k0_cond10 i v48 = 1#1), ∀ a, (k0_off1406 v536) a + S8x128.size a ≤ S65536x128.size a) ∧
  (∀ (k0_h10 : k0_cond10 i v48 = 1#1), ∀ a, (k0_off1407 v536) a + S1x128.size a ≤ S8192x128.size a)
theorem k0_mult540_dvd : ∀ (i : grid0.Coords) (v48 : BitVec 32) (v536 : BitVec 32) (k0_hw546 : k0_chk546 i v48 v536), ∀ (k0_h10 : k0_cond10 i v48 = 1#1), 8 ∣ (k0_mult540 v536).toNat := fun i v48 v536 k0_hw546 k0_h10 => k0_hw546.1 k0_h10
theorem k0_off1406_inb : ∀ (i : grid0.Coords) (v48 : BitVec 32) (v536 : BitVec 32) (k0_hw546 : k0_chk546 i v48 v536), ∀ (k0_h10 : k0_cond10 i v48 = 1#1), ∀ a, (k0_off1406 v536) a + S8x128.size a ≤ S65536x128.size a := fun i v48 v536 k0_hw546 k0_h10 => k0_hw546.2.1 k0_h10
theorem k0_off1407_inb : ∀ (i : grid0.Coords) (v48 : BitVec 32) (v536 : BitVec 32) (k0_hw546 : k0_chk546 i v48 v536), ∀ (k0_h10 : k0_cond10 i v48 = 1#1), ∀ a, (k0_off1407 v536) a + S1x128.size a ≤ S8192x128.size a := fun i v48 v536 k0_hw546 k0_h10 => k0_hw546.2.2 k0_h10

def k0_off1408 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c28_i32 : BitVec 32 := 28#32
  let v551 : BitVec 32 := Scalar.addi v74 c28_i32
  let v552 : Index := Scalar.indexCast v551
  ![v552.toNat]
def k0_mult541 (v553 : BitVec 32) : BitVec 32 :=
  let c3_i32_230 : BitVec 32 := 3#32
  let v554 : BitVec 32 := Scalar.shrsi v553 c3_i32_230
  let c8191_i32_231 : BitVec 32 := 8191#32
  let v555 : BitVec 32 := Scalar.andi v554 c8191_i32_231
  let c8_i32_232 : BitVec 32 := 8#32
  let v556 : BitVec 32 := Scalar.muli v555 c8_i32_232
  v556

def k0_off1409 (v553 : BitVec 32) : Fin 2 → Nat :=
  let c3_i32_230 : BitVec 32 := 3#32
  let v554 : BitVec 32 := Scalar.shrsi v553 c3_i32_230
  let c8191_i32_231 : BitVec 32 := 8191#32
  let v555 : BitVec 32 := Scalar.andi v554 c8191_i32_231
  let c8_i32_232 : BitVec 32 := 8#32
  let v556 : BitVec 32 := Scalar.muli v555 c8_i32_232
  let v557 : BitVec 32 := v556
  let v558 : Index := Scalar.indexCast v557
  let c0_233 : Index := 0#32
  ![v558.toNat, 0]
def k0_off1410 (v553 : BitVec 32) : Fin 2 → Nat :=
  let c3_i32_230 : BitVec 32 := 3#32
  let v554 : BitVec 32 := Scalar.shrsi v553 c3_i32_230
  let c8191_i32_231 : BitVec 32 := 8191#32
  let v555 : BitVec 32 := Scalar.andi v554 c8191_i32_231
  let v563 : Index := Scalar.indexCast v555
  let c0_235 : Index := 0#32
  ![v563.toNat, 0]

def k0_chk547 (i : grid0.Coords) (v48 : BitVec 32) (v553 : BitVec 32) : Prop :=
  (∀ (k0_h10 : k0_cond10 i v48 = 1#1), 8 ∣ (k0_mult541 v553).toNat) ∧
  (∀ (k0_h10 : k0_cond10 i v48 = 1#1), ∀ a, (k0_off1409 v553) a + S8x128.size a ≤ S65536x128.size a) ∧
  (∀ (k0_h10 : k0_cond10 i v48 = 1#1), ∀ a, (k0_off1410 v553) a + S1x128.size a ≤ S8192x128.size a)
theorem k0_mult541_dvd : ∀ (i : grid0.Coords) (v48 : BitVec 32) (v553 : BitVec 32) (k0_hw547 : k0_chk547 i v48 v553), ∀ (k0_h10 : k0_cond10 i v48 = 1#1), 8 ∣ (k0_mult541 v553).toNat := fun i v48 v553 k0_hw547 k0_h10 => k0_hw547.1 k0_h10
theorem k0_off1409_inb : ∀ (i : grid0.Coords) (v48 : BitVec 32) (v553 : BitVec 32) (k0_hw547 : k0_chk547 i v48 v553), ∀ (k0_h10 : k0_cond10 i v48 = 1#1), ∀ a, (k0_off1409 v553) a + S8x128.size a ≤ S65536x128.size a := fun i v48 v553 k0_hw547 k0_h10 => k0_hw547.2.1 k0_h10
theorem k0_off1410_inb : ∀ (i : grid0.Coords) (v48 : BitVec 32) (v553 : BitVec 32) (k0_hw547 : k0_chk547 i v48 v553), ∀ (k0_h10 : k0_cond10 i v48 = 1#1), ∀ a, (k0_off1410 v553) a + S1x128.size a ≤ S8192x128.size a := fun i v48 v553 k0_hw547 k0_h10 => k0_hw547.2.2 k0_h10

def k0_off1411 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c29_i32 : BitVec 32 := 29#32
  let v568 : BitVec 32 := Scalar.addi v74 c29_i32
  let v569 : Index := Scalar.indexCast v568
  ![v569.toNat]
def k0_mult542 (v570 : BitVec 32) : BitVec 32 :=
  let c3_i32_237 : BitVec 32 := 3#32
  let v571 : BitVec 32 := Scalar.shrsi v570 c3_i32_237
  let c8191_i32_238 : BitVec 32 := 8191#32
  let v572 : BitVec 32 := Scalar.andi v571 c8191_i32_238
  let c8_i32_239 : BitVec 32 := 8#32
  let v573 : BitVec 32 := Scalar.muli v572 c8_i32_239
  v573

def k0_off1412 (v570 : BitVec 32) : Fin 2 → Nat :=
  let c3_i32_237 : BitVec 32 := 3#32
  let v571 : BitVec 32 := Scalar.shrsi v570 c3_i32_237
  let c8191_i32_238 : BitVec 32 := 8191#32
  let v572 : BitVec 32 := Scalar.andi v571 c8191_i32_238
  let c8_i32_239 : BitVec 32 := 8#32
  let v573 : BitVec 32 := Scalar.muli v572 c8_i32_239
  let v574 : BitVec 32 := v573
  let v575 : Index := Scalar.indexCast v574
  let c0_240 : Index := 0#32
  ![v575.toNat, 0]
def k0_off1413 (v570 : BitVec 32) : Fin 2 → Nat :=
  let c3_i32_237 : BitVec 32 := 3#32
  let v571 : BitVec 32 := Scalar.shrsi v570 c3_i32_237
  let c8191_i32_238 : BitVec 32 := 8191#32
  let v572 : BitVec 32 := Scalar.andi v571 c8191_i32_238
  let v580 : Index := Scalar.indexCast v572
  let c0_242 : Index := 0#32
  ![v580.toNat, 0]

def k0_chk548 (i : grid0.Coords) (v48 : BitVec 32) (v570 : BitVec 32) : Prop :=
  (∀ (k0_h10 : k0_cond10 i v48 = 1#1), 8 ∣ (k0_mult542 v570).toNat) ∧
  (∀ (k0_h10 : k0_cond10 i v48 = 1#1), ∀ a, (k0_off1412 v570) a + S8x128.size a ≤ S65536x128.size a) ∧
  (∀ (k0_h10 : k0_cond10 i v48 = 1#1), ∀ a, (k0_off1413 v570) a + S1x128.size a ≤ S8192x128.size a)
theorem k0_mult542_dvd : ∀ (i : grid0.Coords) (v48 : BitVec 32) (v570 : BitVec 32) (k0_hw548 : k0_chk548 i v48 v570), ∀ (k0_h10 : k0_cond10 i v48 = 1#1), 8 ∣ (k0_mult542 v570).toNat := fun i v48 v570 k0_hw548 k0_h10 => k0_hw548.1 k0_h10
theorem k0_off1412_inb : ∀ (i : grid0.Coords) (v48 : BitVec 32) (v570 : BitVec 32) (k0_hw548 : k0_chk548 i v48 v570), ∀ (k0_h10 : k0_cond10 i v48 = 1#1), ∀ a, (k0_off1412 v570) a + S8x128.size a ≤ S65536x128.size a := fun i v48 v570 k0_hw548 k0_h10 => k0_hw548.2.1 k0_h10
theorem k0_off1413_inb : ∀ (i : grid0.Coords) (v48 : BitVec 32) (v570 : BitVec 32) (k0_hw548 : k0_chk548 i v48 v570), ∀ (k0_h10 : k0_cond10 i v48 = 1#1), ∀ a, (k0_off1413 v570) a + S1x128.size a ≤ S8192x128.size a := fun i v48 v570 k0_hw548 k0_h10 => k0_hw548.2.2 k0_h10

def k0_off1414 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c30_i32 : BitVec 32 := 30#32
  let v585 : BitVec 32 := Scalar.addi v74 c30_i32
  let v586 : Index := Scalar.indexCast v585
  ![v586.toNat]
def k0_mult543 (v587 : BitVec 32) : BitVec 32 :=
  let c3_i32_244 : BitVec 32 := 3#32
  let v588 : BitVec 32 := Scalar.shrsi v587 c3_i32_244
  let c8191_i32_245 : BitVec 32 := 8191#32
  let v589 : BitVec 32 := Scalar.andi v588 c8191_i32_245
  let c8_i32_246 : BitVec 32 := 8#32
  let v590 : BitVec 32 := Scalar.muli v589 c8_i32_246
  v590

def k0_off1415 (v587 : BitVec 32) : Fin 2 → Nat :=
  let c3_i32_244 : BitVec 32 := 3#32
  let v588 : BitVec 32 := Scalar.shrsi v587 c3_i32_244
  let c8191_i32_245 : BitVec 32 := 8191#32
  let v589 : BitVec 32 := Scalar.andi v588 c8191_i32_245
  let c8_i32_246 : BitVec 32 := 8#32
  let v590 : BitVec 32 := Scalar.muli v589 c8_i32_246
  let v591 : BitVec 32 := v590
  let v592 : Index := Scalar.indexCast v591
  let c0_247 : Index := 0#32
  ![v592.toNat, 0]
def k0_off1416 (v587 : BitVec 32) : Fin 2 → Nat :=
  let c3_i32_244 : BitVec 32 := 3#32
  let v588 : BitVec 32 := Scalar.shrsi v587 c3_i32_244
  let c8191_i32_245 : BitVec 32 := 8191#32
  let v589 : BitVec 32 := Scalar.andi v588 c8191_i32_245
  let v597 : Index := Scalar.indexCast v589
  let c0_249 : Index := 0#32
  ![v597.toNat, 0]

def k0_chk549 (i : grid0.Coords) (v48 : BitVec 32) (v587 : BitVec 32) : Prop :=
  (∀ (k0_h10 : k0_cond10 i v48 = 1#1), 8 ∣ (k0_mult543 v587).toNat) ∧
  (∀ (k0_h10 : k0_cond10 i v48 = 1#1), ∀ a, (k0_off1415 v587) a + S8x128.size a ≤ S65536x128.size a) ∧
  (∀ (k0_h10 : k0_cond10 i v48 = 1#1), ∀ a, (k0_off1416 v587) a + S1x128.size a ≤ S8192x128.size a)
theorem k0_mult543_dvd : ∀ (i : grid0.Coords) (v48 : BitVec 32) (v587 : BitVec 32) (k0_hw549 : k0_chk549 i v48 v587), ∀ (k0_h10 : k0_cond10 i v48 = 1#1), 8 ∣ (k0_mult543 v587).toNat := fun i v48 v587 k0_hw549 k0_h10 => k0_hw549.1 k0_h10
theorem k0_off1415_inb : ∀ (i : grid0.Coords) (v48 : BitVec 32) (v587 : BitVec 32) (k0_hw549 : k0_chk549 i v48 v587), ∀ (k0_h10 : k0_cond10 i v48 = 1#1), ∀ a, (k0_off1415 v587) a + S8x128.size a ≤ S65536x128.size a := fun i v48 v587 k0_hw549 k0_h10 => k0_hw549.2.1 k0_h10
theorem k0_off1416_inb : ∀ (i : grid0.Coords) (v48 : BitVec 32) (v587 : BitVec 32) (k0_hw549 : k0_chk549 i v48 v587), ∀ (k0_h10 : k0_cond10 i v48 = 1#1), ∀ a, (k0_off1416 v587) a + S1x128.size a ≤ S8192x128.size a := fun i v48 v587 k0_hw549 k0_h10 => k0_hw549.2.2 k0_h10

def k0_off1417 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c31_i32 : BitVec 32 := 31#32
  let v602 : BitVec 32 := Scalar.addi v74 c31_i32
  let v603 : Index := Scalar.indexCast v602
  ![v603.toNat]
def k0_mult544 (v604 : BitVec 32) : BitVec 32 :=
  let c3_i32_251 : BitVec 32 := 3#32
  let v605 : BitVec 32 := Scalar.shrsi v604 c3_i32_251
  let c8191_i32_252 : BitVec 32 := 8191#32
  let v606 : BitVec 32 := Scalar.andi v605 c8191_i32_252
  let c8_i32_253 : BitVec 32 := 8#32
  let v607 : BitVec 32 := Scalar.muli v606 c8_i32_253
  v607

def k0_off1418 (v604 : BitVec 32) : Fin 2 → Nat :=
  let c3_i32_251 : BitVec 32 := 3#32
  let v605 : BitVec 32 := Scalar.shrsi v604 c3_i32_251
  let c8191_i32_252 : BitVec 32 := 8191#32
  let v606 : BitVec 32 := Scalar.andi v605 c8191_i32_252
  let c8_i32_253 : BitVec 32 := 8#32
  let v607 : BitVec 32 := Scalar.muli v606 c8_i32_253
  let v608 : BitVec 32 := v607
  let v609 : Index := Scalar.indexCast v608
  let c0_254 : Index := 0#32
  ![v609.toNat, 0]
def k0_off1419 (v604 : BitVec 32) : Fin 2 → Nat :=
  let c3_i32_251 : BitVec 32 := 3#32
  let v605 : BitVec 32 := Scalar.shrsi v604 c3_i32_251
  let c8191_i32_252 : BitVec 32 := 8191#32
  let v606 : BitVec 32 := Scalar.andi v605 c8191_i32_252
  let v614 : Index := Scalar.indexCast v606
  let c0_256 : Index := 0#32
  ![v614.toNat, 0]

def k0_chk550 (i : grid0.Coords) (v48 : BitVec 32) (v604 : BitVec 32) : Prop :=
  (∀ (k0_h10 : k0_cond10 i v48 = 1#1), 8 ∣ (k0_mult544 v604).toNat) ∧
  (∀ (k0_h10 : k0_cond10 i v48 = 1#1), ∀ a, (k0_off1418 v604) a + S8x128.size a ≤ S65536x128.size a) ∧
  (∀ (k0_h10 : k0_cond10 i v48 = 1#1), ∀ a, (k0_off1419 v604) a + S1x128.size a ≤ S8192x128.size a)
theorem k0_mult544_dvd : ∀ (i : grid0.Coords) (v48 : BitVec 32) (v604 : BitVec 32) (k0_hw550 : k0_chk550 i v48 v604), ∀ (k0_h10 : k0_cond10 i v48 = 1#1), 8 ∣ (k0_mult544 v604).toNat := fun i v48 v604 k0_hw550 k0_h10 => k0_hw550.1 k0_h10
theorem k0_off1418_inb : ∀ (i : grid0.Coords) (v48 : BitVec 32) (v604 : BitVec 32) (k0_hw550 : k0_chk550 i v48 v604), ∀ (k0_h10 : k0_cond10 i v48 = 1#1), ∀ a, (k0_off1418 v604) a + S8x128.size a ≤ S65536x128.size a := fun i v48 v604 k0_hw550 k0_h10 => k0_hw550.2.1 k0_h10
theorem k0_off1419_inb : ∀ (i : grid0.Coords) (v48 : BitVec 32) (v604 : BitVec 32) (k0_hw550 : k0_chk550 i v48 v604), ∀ (k0_h10 : k0_cond10 i v48 = 1#1), ∀ a, (k0_off1419 v604) a + S1x128.size a ≤ S8192x128.size a := fun i v48 v604 k0_hw550 k0_h10 => k0_hw550.2.2 k0_h10

def k0_off1420 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c32_i32 : BitVec 32 := 32#32
  let v619 : BitVec 32 := Scalar.addi v74 c32_i32
  let v620 : Index := Scalar.indexCast v619
  ![v620.toNat]
def k0_mult545 (v621 : BitVec 32) : BitVec 32 :=
  let c3_i32_258 : BitVec 32 := 3#32
  let v622 : BitVec 32 := Scalar.shrsi v621 c3_i32_258
  let c8191_i32_259 : BitVec 32 := 8191#32
  let v623 : BitVec 32 := Scalar.andi v622 c8191_i32_259
  let c8_i32_260 : BitVec 32 := 8#32
  let v624 : BitVec 32 := Scalar.muli v623 c8_i32_260
  v624

def k0_off1421 (v621 : BitVec 32) : Fin 2 → Nat :=
  let c3_i32_258 : BitVec 32 := 3#32
  let v622 : BitVec 32 := Scalar.shrsi v621 c3_i32_258
  let c8191_i32_259 : BitVec 32 := 8191#32
  let v623 : BitVec 32 := Scalar.andi v622 c8191_i32_259
  let c8_i32_260 : BitVec 32 := 8#32
  let v624 : BitVec 32 := Scalar.muli v623 c8_i32_260
  let v625 : BitVec 32 := v624
  let v626 : Index := Scalar.indexCast v625
  let c0_261 : Index := 0#32
  ![v626.toNat, 0]
def k0_off1422 (v621 : BitVec 32) : Fin 2 → Nat :=
  let c3_i32_258 : BitVec 32 := 3#32
  let v622 : BitVec 32 := Scalar.shrsi v621 c3_i32_258
  let c8191_i32_259 : BitVec 32 := 8191#32
  let v623 : BitVec 32 := Scalar.andi v622 c8191_i32_259
  let v631 : Index := Scalar.indexCast v623
  let c0_263 : Index := 0#32
  ![v631.toNat, 0]

def k0_chk551 (i : grid0.Coords) (v48 : BitVec 32) (v621 : BitVec 32) : Prop :=
  (∀ (k0_h10 : k0_cond10 i v48 = 1#1), 8 ∣ (k0_mult545 v621).toNat) ∧
  (∀ (k0_h10 : k0_cond10 i v48 = 1#1), ∀ a, (k0_off1421 v621) a + S8x128.size a ≤ S65536x128.size a) ∧
  (∀ (k0_h10 : k0_cond10 i v48 = 1#1), ∀ a, (k0_off1422 v621) a + S1x128.size a ≤ S8192x128.size a)
theorem k0_mult545_dvd : ∀ (i : grid0.Coords) (v48 : BitVec 32) (v621 : BitVec 32) (k0_hw551 : k0_chk551 i v48 v621), ∀ (k0_h10 : k0_cond10 i v48 = 1#1), 8 ∣ (k0_mult545 v621).toNat := fun i v48 v621 k0_hw551 k0_h10 => k0_hw551.1 k0_h10
theorem k0_off1421_inb : ∀ (i : grid0.Coords) (v48 : BitVec 32) (v621 : BitVec 32) (k0_hw551 : k0_chk551 i v48 v621), ∀ (k0_h10 : k0_cond10 i v48 = 1#1), ∀ a, (k0_off1421 v621) a + S8x128.size a ≤ S65536x128.size a := fun i v48 v621 k0_hw551 k0_h10 => k0_hw551.2.1 k0_h10
theorem k0_off1422_inb : ∀ (i : grid0.Coords) (v48 : BitVec 32) (v621 : BitVec 32) (k0_hw551 : k0_chk551 i v48 v621), ∀ (k0_h10 : k0_cond10 i v48 = 1#1), ∀ a, (k0_off1422 v621) a + S1x128.size a ≤ S8192x128.size a := fun i v48 v621 k0_hw551 k0_h10 => k0_hw551.2.2 k0_h10

def k0_off1423 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c33_i32 : BitVec 32 := 33#32
  let v636 : BitVec 32 := Scalar.addi v74 c33_i32
  let v637 : Index := Scalar.indexCast v636
  ![v637.toNat]
def k0_mult546 (v638 : BitVec 32) : BitVec 32 :=
  let c3_i32_266 : BitVec 32 := 3#32
  let v639 : BitVec 32 := Scalar.shrsi v638 c3_i32_266
  let c8191_i32_267 : BitVec 32 := 8191#32
  let v640 : BitVec 32 := Scalar.andi v639 c8191_i32_267
  let c8_i32_268 : BitVec 32 := 8#32
  let v641 : BitVec 32 := Scalar.muli v640 c8_i32_268
  v641

def k0_off1424 (v638 : BitVec 32) : Fin 2 → Nat :=
  let c3_i32_266 : BitVec 32 := 3#32
  let v639 : BitVec 32 := Scalar.shrsi v638 c3_i32_266
  let c8191_i32_267 : BitVec 32 := 8191#32
  let v640 : BitVec 32 := Scalar.andi v639 c8191_i32_267
  let c8_i32_268 : BitVec 32 := 8#32
  let v641 : BitVec 32 := Scalar.muli v640 c8_i32_268
  let v642 : BitVec 32 := v641
  let v643 : Index := Scalar.indexCast v642
  let c0_269 : Index := 0#32
  ![v643.toNat, 0]
def k0_off1425 (v638 : BitVec 32) : Fin 2 → Nat :=
  let c3_i32_266 : BitVec 32 := 3#32
  let v639 : BitVec 32 := Scalar.shrsi v638 c3_i32_266
  let c8191_i32_267 : BitVec 32 := 8191#32
  let v640 : BitVec 32 := Scalar.andi v639 c8191_i32_267
  let v648 : Index := Scalar.indexCast v640
  let c0_271 : Index := 0#32
  ![v648.toNat, 0]

def k0_chk552 (i : grid0.Coords) (v48 : BitVec 32) (v638 : BitVec 32) : Prop :=
  (∀ (k0_h10 : k0_cond10 i v48 = 1#1), 8 ∣ (k0_mult546 v638).toNat) ∧
  (∀ (k0_h10 : k0_cond10 i v48 = 1#1), ∀ a, (k0_off1424 v638) a + S8x128.size a ≤ S65536x128.size a) ∧
  (∀ (k0_h10 : k0_cond10 i v48 = 1#1), ∀ a, (k0_off1425 v638) a + S1x128.size a ≤ S8192x128.size a)
theorem k0_mult546_dvd : ∀ (i : grid0.Coords) (v48 : BitVec 32) (v638 : BitVec 32) (k0_hw552 : k0_chk552 i v48 v638), ∀ (k0_h10 : k0_cond10 i v48 = 1#1), 8 ∣ (k0_mult546 v638).toNat := fun i v48 v638 k0_hw552 k0_h10 => k0_hw552.1 k0_h10
theorem k0_off1424_inb : ∀ (i : grid0.Coords) (v48 : BitVec 32) (v638 : BitVec 32) (k0_hw552 : k0_chk552 i v48 v638), ∀ (k0_h10 : k0_cond10 i v48 = 1#1), ∀ a, (k0_off1424 v638) a + S8x128.size a ≤ S65536x128.size a := fun i v48 v638 k0_hw552 k0_h10 => k0_hw552.2.1 k0_h10
theorem k0_off1425_inb : ∀ (i : grid0.Coords) (v48 : BitVec 32) (v638 : BitVec 32) (k0_hw552 : k0_chk552 i v48 v638), ∀ (k0_h10 : k0_cond10 i v48 = 1#1), ∀ a, (k0_off1425 v638) a + S1x128.size a ≤ S8192x128.size a := fun i v48 v638 k0_hw552 k0_h10 => k0_hw552.2.2 k0_h10

def k0_off1426 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c34_i32 : BitVec 32 := 34#32
  let v653 : BitVec 32 := Scalar.addi v74 c34_i32
  let v654 : Index := Scalar.indexCast v653
  ![v654.toNat]
def k0_mult547 (v655 : BitVec 32) : BitVec 32 :=
  let c3_i32_273 : BitVec 32 := 3#32
  let v656 : BitVec 32 := Scalar.shrsi v655 c3_i32_273
  let c8191_i32_274 : BitVec 32 := 8191#32
  let v657 : BitVec 32 := Scalar.andi v656 c8191_i32_274
  let c8_i32_275 : BitVec 32 := 8#32
  let v658 : BitVec 32 := Scalar.muli v657 c8_i32_275
  v658

def k0_off1427 (v655 : BitVec 32) : Fin 2 → Nat :=
  let c3_i32_273 : BitVec 32 := 3#32
  let v656 : BitVec 32 := Scalar.shrsi v655 c3_i32_273
  let c8191_i32_274 : BitVec 32 := 8191#32
  let v657 : BitVec 32 := Scalar.andi v656 c8191_i32_274
  let c8_i32_275 : BitVec 32 := 8#32
  let v658 : BitVec 32 := Scalar.muli v657 c8_i32_275
  let v659 : BitVec 32 := v658
  let v660 : Index := Scalar.indexCast v659
  let c0_276 : Index := 0#32
  ![v660.toNat, 0]
def k0_off1428 (v655 : BitVec 32) : Fin 2 → Nat :=
  let c3_i32_273 : BitVec 32 := 3#32
  let v656 : BitVec 32 := Scalar.shrsi v655 c3_i32_273
  let c8191_i32_274 : BitVec 32 := 8191#32
  let v657 : BitVec 32 := Scalar.andi v656 c8191_i32_274
  let v665 : Index := Scalar.indexCast v657
  let c0_278 : Index := 0#32
  ![v665.toNat, 0]

def k0_chk553 (i : grid0.Coords) (v48 : BitVec 32) (v655 : BitVec 32) : Prop :=
  (∀ (k0_h10 : k0_cond10 i v48 = 1#1), 8 ∣ (k0_mult547 v655).toNat) ∧
  (∀ (k0_h10 : k0_cond10 i v48 = 1#1), ∀ a, (k0_off1427 v655) a + S8x128.size a ≤ S65536x128.size a) ∧
  (∀ (k0_h10 : k0_cond10 i v48 = 1#1), ∀ a, (k0_off1428 v655) a + S1x128.size a ≤ S8192x128.size a)
theorem k0_mult547_dvd : ∀ (i : grid0.Coords) (v48 : BitVec 32) (v655 : BitVec 32) (k0_hw553 : k0_chk553 i v48 v655), ∀ (k0_h10 : k0_cond10 i v48 = 1#1), 8 ∣ (k0_mult547 v655).toNat := fun i v48 v655 k0_hw553 k0_h10 => k0_hw553.1 k0_h10
theorem k0_off1427_inb : ∀ (i : grid0.Coords) (v48 : BitVec 32) (v655 : BitVec 32) (k0_hw553 : k0_chk553 i v48 v655), ∀ (k0_h10 : k0_cond10 i v48 = 1#1), ∀ a, (k0_off1427 v655) a + S8x128.size a ≤ S65536x128.size a := fun i v48 v655 k0_hw553 k0_h10 => k0_hw553.2.1 k0_h10
theorem k0_off1428_inb : ∀ (i : grid0.Coords) (v48 : BitVec 32) (v655 : BitVec 32) (k0_hw553 : k0_chk553 i v48 v655), ∀ (k0_h10 : k0_cond10 i v48 = 1#1), ∀ a, (k0_off1428 v655) a + S1x128.size a ≤ S8192x128.size a := fun i v48 v655 k0_hw553 k0_h10 => k0_hw553.2.2 k0_h10

def k0_off1429 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c35_i32 : BitVec 32 := 35#32
  let v670 : BitVec 32 := Scalar.addi v74 c35_i32
  let v671 : Index := Scalar.indexCast v670
  ![v671.toNat]
def k0_mult548 (v672 : BitVec 32) : BitVec 32 :=
  let c3_i32_280 : BitVec 32 := 3#32
  let v673 : BitVec 32 := Scalar.shrsi v672 c3_i32_280
  let c8191_i32_281 : BitVec 32 := 8191#32
  let v674 : BitVec 32 := Scalar.andi v673 c8191_i32_281
  let c8_i32_282 : BitVec 32 := 8#32
  let v675 : BitVec 32 := Scalar.muli v674 c8_i32_282
  v675

def k0_off1430 (v672 : BitVec 32) : Fin 2 → Nat :=
  let c3_i32_280 : BitVec 32 := 3#32
  let v673 : BitVec 32 := Scalar.shrsi v672 c3_i32_280
  let c8191_i32_281 : BitVec 32 := 8191#32
  let v674 : BitVec 32 := Scalar.andi v673 c8191_i32_281
  let c8_i32_282 : BitVec 32 := 8#32
  let v675 : BitVec 32 := Scalar.muli v674 c8_i32_282
  let v676 : BitVec 32 := v675
  let v677 : Index := Scalar.indexCast v676
  let c0_283 : Index := 0#32
  ![v677.toNat, 0]
def k0_off1431 (v672 : BitVec 32) : Fin 2 → Nat :=
  let c3_i32_280 : BitVec 32 := 3#32
  let v673 : BitVec 32 := Scalar.shrsi v672 c3_i32_280
  let c8191_i32_281 : BitVec 32 := 8191#32
  let v674 : BitVec 32 := Scalar.andi v673 c8191_i32_281
  let v682 : Index := Scalar.indexCast v674
  let c0_285 : Index := 0#32
  ![v682.toNat, 0]

def k0_chk554 (i : grid0.Coords) (v48 : BitVec 32) (v672 : BitVec 32) : Prop :=
  (∀ (k0_h10 : k0_cond10 i v48 = 1#1), 8 ∣ (k0_mult548 v672).toNat) ∧
  (∀ (k0_h10 : k0_cond10 i v48 = 1#1), ∀ a, (k0_off1430 v672) a + S8x128.size a ≤ S65536x128.size a) ∧
  (∀ (k0_h10 : k0_cond10 i v48 = 1#1), ∀ a, (k0_off1431 v672) a + S1x128.size a ≤ S8192x128.size a)
theorem k0_mult548_dvd : ∀ (i : grid0.Coords) (v48 : BitVec 32) (v672 : BitVec 32) (k0_hw554 : k0_chk554 i v48 v672), ∀ (k0_h10 : k0_cond10 i v48 = 1#1), 8 ∣ (k0_mult548 v672).toNat := fun i v48 v672 k0_hw554 k0_h10 => k0_hw554.1 k0_h10
theorem k0_off1430_inb : ∀ (i : grid0.Coords) (v48 : BitVec 32) (v672 : BitVec 32) (k0_hw554 : k0_chk554 i v48 v672), ∀ (k0_h10 : k0_cond10 i v48 = 1#1), ∀ a, (k0_off1430 v672) a + S8x128.size a ≤ S65536x128.size a := fun i v48 v672 k0_hw554 k0_h10 => k0_hw554.2.1 k0_h10
theorem k0_off1431_inb : ∀ (i : grid0.Coords) (v48 : BitVec 32) (v672 : BitVec 32) (k0_hw554 : k0_chk554 i v48 v672), ∀ (k0_h10 : k0_cond10 i v48 = 1#1), ∀ a, (k0_off1431 v672) a + S1x128.size a ≤ S8192x128.size a := fun i v48 v672 k0_hw554 k0_h10 => k0_hw554.2.2 k0_h10

def k0_off1432 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c36_i32 : BitVec 32 := 36#32
  let v687 : BitVec 32 := Scalar.addi v74 c36_i32
  let v688 : Index := Scalar.indexCast v687
  ![v688.toNat]
def k0_mult549 (v689 : BitVec 32) : BitVec 32 :=
  let c3_i32_287 : BitVec 32 := 3#32
  let v690 : BitVec 32 := Scalar.shrsi v689 c3_i32_287
  let c8191_i32_288 : BitVec 32 := 8191#32
  let v691 : BitVec 32 := Scalar.andi v690 c8191_i32_288
  let c8_i32_289 : BitVec 32 := 8#32
  let v692 : BitVec 32 := Scalar.muli v691 c8_i32_289
  v692

def k0_off1433 (v689 : BitVec 32) : Fin 2 → Nat :=
  let c3_i32_287 : BitVec 32 := 3#32
  let v690 : BitVec 32 := Scalar.shrsi v689 c3_i32_287
  let c8191_i32_288 : BitVec 32 := 8191#32
  let v691 : BitVec 32 := Scalar.andi v690 c8191_i32_288
  let c8_i32_289 : BitVec 32 := 8#32
  let v692 : BitVec 32 := Scalar.muli v691 c8_i32_289
  let v693 : BitVec 32 := v692
  let v694 : Index := Scalar.indexCast v693
  let c0_290 : Index := 0#32
  ![v694.toNat, 0]
def k0_off1434 (v689 : BitVec 32) : Fin 2 → Nat :=
  let c3_i32_287 : BitVec 32 := 3#32
  let v690 : BitVec 32 := Scalar.shrsi v689 c3_i32_287
  let c8191_i32_288 : BitVec 32 := 8191#32
  let v691 : BitVec 32 := Scalar.andi v690 c8191_i32_288
  let v699 : Index := Scalar.indexCast v691
  let c0_292 : Index := 0#32
  ![v699.toNat, 0]

def k0_chk555 (i : grid0.Coords) (v48 : BitVec 32) (v689 : BitVec 32) : Prop :=
  (∀ (k0_h10 : k0_cond10 i v48 = 1#1), 8 ∣ (k0_mult549 v689).toNat) ∧
  (∀ (k0_h10 : k0_cond10 i v48 = 1#1), ∀ a, (k0_off1433 v689) a + S8x128.size a ≤ S65536x128.size a) ∧
  (∀ (k0_h10 : k0_cond10 i v48 = 1#1), ∀ a, (k0_off1434 v689) a + S1x128.size a ≤ S8192x128.size a)
theorem k0_mult549_dvd : ∀ (i : grid0.Coords) (v48 : BitVec 32) (v689 : BitVec 32) (k0_hw555 : k0_chk555 i v48 v689), ∀ (k0_h10 : k0_cond10 i v48 = 1#1), 8 ∣ (k0_mult549 v689).toNat := fun i v48 v689 k0_hw555 k0_h10 => k0_hw555.1 k0_h10
theorem k0_off1433_inb : ∀ (i : grid0.Coords) (v48 : BitVec 32) (v689 : BitVec 32) (k0_hw555 : k0_chk555 i v48 v689), ∀ (k0_h10 : k0_cond10 i v48 = 1#1), ∀ a, (k0_off1433 v689) a + S8x128.size a ≤ S65536x128.size a := fun i v48 v689 k0_hw555 k0_h10 => k0_hw555.2.1 k0_h10
theorem k0_off1434_inb : ∀ (i : grid0.Coords) (v48 : BitVec 32) (v689 : BitVec 32) (k0_hw555 : k0_chk555 i v48 v689), ∀ (k0_h10 : k0_cond10 i v48 = 1#1), ∀ a, (k0_off1434 v689) a + S1x128.size a ≤ S8192x128.size a := fun i v48 v689 k0_hw555 k0_h10 => k0_hw555.2.2 k0_h10

def k0_off1435 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c37_i32 : BitVec 32 := 37#32
  let v704 : BitVec 32 := Scalar.addi v74 c37_i32
  let v705 : Index := Scalar.indexCast v704
  ![v705.toNat]
def k0_mult550 (v706 : BitVec 32) : BitVec 32 :=
  let c3_i32_294 : BitVec 32 := 3#32
  let v707 : BitVec 32 := Scalar.shrsi v706 c3_i32_294
  let c8191_i32_295 : BitVec 32 := 8191#32
  let v708 : BitVec 32 := Scalar.andi v707 c8191_i32_295
  let c8_i32_296 : BitVec 32 := 8#32
  let v709 : BitVec 32 := Scalar.muli v708 c8_i32_296
  v709

def k0_off1436 (v706 : BitVec 32) : Fin 2 → Nat :=
  let c3_i32_294 : BitVec 32 := 3#32
  let v707 : BitVec 32 := Scalar.shrsi v706 c3_i32_294
  let c8191_i32_295 : BitVec 32 := 8191#32
  let v708 : BitVec 32 := Scalar.andi v707 c8191_i32_295
  let c8_i32_296 : BitVec 32 := 8#32
  let v709 : BitVec 32 := Scalar.muli v708 c8_i32_296
  let v710 : BitVec 32 := v709
  let v711 : Index := Scalar.indexCast v710
  let c0_297 : Index := 0#32
  ![v711.toNat, 0]
def k0_off1437 (v706 : BitVec 32) : Fin 2 → Nat :=
  let c3_i32_294 : BitVec 32 := 3#32
  let v707 : BitVec 32 := Scalar.shrsi v706 c3_i32_294
  let c8191_i32_295 : BitVec 32 := 8191#32
  let v708 : BitVec 32 := Scalar.andi v707 c8191_i32_295
  let v716 : Index := Scalar.indexCast v708
  let c0_299 : Index := 0#32
  ![v716.toNat, 0]

def k0_chk556 (i : grid0.Coords) (v48 : BitVec 32) (v706 : BitVec 32) : Prop :=
  (∀ (k0_h10 : k0_cond10 i v48 = 1#1), 8 ∣ (k0_mult550 v706).toNat) ∧
  (∀ (k0_h10 : k0_cond10 i v48 = 1#1), ∀ a, (k0_off1436 v706) a + S8x128.size a ≤ S65536x128.size a) ∧
  (∀ (k0_h10 : k0_cond10 i v48 = 1#1), ∀ a, (k0_off1437 v706) a + S1x128.size a ≤ S8192x128.size a)
theorem k0_mult550_dvd : ∀ (i : grid0.Coords) (v48 : BitVec 32) (v706 : BitVec 32) (k0_hw556 : k0_chk556 i v48 v706), ∀ (k0_h10 : k0_cond10 i v48 = 1#1), 8 ∣ (k0_mult550 v706).toNat := fun i v48 v706 k0_hw556 k0_h10 => k0_hw556.1 k0_h10
theorem k0_off1436_inb : ∀ (i : grid0.Coords) (v48 : BitVec 32) (v706 : BitVec 32) (k0_hw556 : k0_chk556 i v48 v706), ∀ (k0_h10 : k0_cond10 i v48 = 1#1), ∀ a, (k0_off1436 v706) a + S8x128.size a ≤ S65536x128.size a := fun i v48 v706 k0_hw556 k0_h10 => k0_hw556.2.1 k0_h10
theorem k0_off1437_inb : ∀ (i : grid0.Coords) (v48 : BitVec 32) (v706 : BitVec 32) (k0_hw556 : k0_chk556 i v48 v706), ∀ (k0_h10 : k0_cond10 i v48 = 1#1), ∀ a, (k0_off1437 v706) a + S1x128.size a ≤ S8192x128.size a := fun i v48 v706 k0_hw556 k0_h10 => k0_hw556.2.2 k0_h10

def k0_off1438 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c38_i32 : BitVec 32 := 38#32
  let v721 : BitVec 32 := Scalar.addi v74 c38_i32
  let v722 : Index := Scalar.indexCast v721
  ![v722.toNat]
def k0_mult551 (v723 : BitVec 32) : BitVec 32 :=
  let c3_i32_301 : BitVec 32 := 3#32
  let v724 : BitVec 32 := Scalar.shrsi v723 c3_i32_301
  let c8191_i32_302 : BitVec 32 := 8191#32
  let v725 : BitVec 32 := Scalar.andi v724 c8191_i32_302
  let c8_i32_303 : BitVec 32 := 8#32
  let v726 : BitVec 32 := Scalar.muli v725 c8_i32_303
  v726

def k0_off1439 (v723 : BitVec 32) : Fin 2 → Nat :=
  let c3_i32_301 : BitVec 32 := 3#32
  let v724 : BitVec 32 := Scalar.shrsi v723 c3_i32_301
  let c8191_i32_302 : BitVec 32 := 8191#32
  let v725 : BitVec 32 := Scalar.andi v724 c8191_i32_302
  let c8_i32_303 : BitVec 32 := 8#32
  let v726 : BitVec 32 := Scalar.muli v725 c8_i32_303
  let v727 : BitVec 32 := v726
  let v728 : Index := Scalar.indexCast v727
  let c0_304 : Index := 0#32
  ![v728.toNat, 0]
def k0_off1440 (v723 : BitVec 32) : Fin 2 → Nat :=
  let c3_i32_301 : BitVec 32 := 3#32
  let v724 : BitVec 32 := Scalar.shrsi v723 c3_i32_301
  let c8191_i32_302 : BitVec 32 := 8191#32
  let v725 : BitVec 32 := Scalar.andi v724 c8191_i32_302
  let v733 : Index := Scalar.indexCast v725
  let c0_306 : Index := 0#32
  ![v733.toNat, 0]

def k0_chk557 (i : grid0.Coords) (v48 : BitVec 32) (v723 : BitVec 32) : Prop :=
  (∀ (k0_h10 : k0_cond10 i v48 = 1#1), 8 ∣ (k0_mult551 v723).toNat) ∧
  (∀ (k0_h10 : k0_cond10 i v48 = 1#1), ∀ a, (k0_off1439 v723) a + S8x128.size a ≤ S65536x128.size a) ∧
  (∀ (k0_h10 : k0_cond10 i v48 = 1#1), ∀ a, (k0_off1440 v723) a + S1x128.size a ≤ S8192x128.size a)
theorem k0_mult551_dvd : ∀ (i : grid0.Coords) (v48 : BitVec 32) (v723 : BitVec 32) (k0_hw557 : k0_chk557 i v48 v723), ∀ (k0_h10 : k0_cond10 i v48 = 1#1), 8 ∣ (k0_mult551 v723).toNat := fun i v48 v723 k0_hw557 k0_h10 => k0_hw557.1 k0_h10
theorem k0_off1439_inb : ∀ (i : grid0.Coords) (v48 : BitVec 32) (v723 : BitVec 32) (k0_hw557 : k0_chk557 i v48 v723), ∀ (k0_h10 : k0_cond10 i v48 = 1#1), ∀ a, (k0_off1439 v723) a + S8x128.size a ≤ S65536x128.size a := fun i v48 v723 k0_hw557 k0_h10 => k0_hw557.2.1 k0_h10
theorem k0_off1440_inb : ∀ (i : grid0.Coords) (v48 : BitVec 32) (v723 : BitVec 32) (k0_hw557 : k0_chk557 i v48 v723), ∀ (k0_h10 : k0_cond10 i v48 = 1#1), ∀ a, (k0_off1440 v723) a + S1x128.size a ≤ S8192x128.size a := fun i v48 v723 k0_hw557 k0_h10 => k0_hw557.2.2 k0_h10

def k0_off1441 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c39_i32 : BitVec 32 := 39#32
  let v738 : BitVec 32 := Scalar.addi v74 c39_i32
  let v739 : Index := Scalar.indexCast v738
  ![v739.toNat]
def k0_mult552 (v740 : BitVec 32) : BitVec 32 :=
  let c3_i32_308 : BitVec 32 := 3#32
  let v741 : BitVec 32 := Scalar.shrsi v740 c3_i32_308
  let c8191_i32_309 : BitVec 32 := 8191#32
  let v742 : BitVec 32 := Scalar.andi v741 c8191_i32_309
  let c8_i32_310 : BitVec 32 := 8#32
  let v743 : BitVec 32 := Scalar.muli v742 c8_i32_310
  v743

def k0_off1442 (v740 : BitVec 32) : Fin 2 → Nat :=
  let c3_i32_308 : BitVec 32 := 3#32
  let v741 : BitVec 32 := Scalar.shrsi v740 c3_i32_308
  let c8191_i32_309 : BitVec 32 := 8191#32
  let v742 : BitVec 32 := Scalar.andi v741 c8191_i32_309
  let c8_i32_310 : BitVec 32 := 8#32
  let v743 : BitVec 32 := Scalar.muli v742 c8_i32_310
  let v744 : BitVec 32 := v743
  let v745 : Index := Scalar.indexCast v744
  let c0_311 : Index := 0#32
  ![v745.toNat, 0]
def k0_off1443 (v740 : BitVec 32) : Fin 2 → Nat :=
  let c3_i32_308 : BitVec 32 := 3#32
  let v741 : BitVec 32 := Scalar.shrsi v740 c3_i32_308
  let c8191_i32_309 : BitVec 32 := 8191#32
  let v742 : BitVec 32 := Scalar.andi v741 c8191_i32_309
  let v750 : Index := Scalar.indexCast v742
  let c0_313 : Index := 0#32
  ![v750.toNat, 0]

def k0_chk558 (i : grid0.Coords) (v48 : BitVec 32) (v740 : BitVec 32) : Prop :=
  (∀ (k0_h10 : k0_cond10 i v48 = 1#1), 8 ∣ (k0_mult552 v740).toNat) ∧
  (∀ (k0_h10 : k0_cond10 i v48 = 1#1), ∀ a, (k0_off1442 v740) a + S8x128.size a ≤ S65536x128.size a) ∧
  (∀ (k0_h10 : k0_cond10 i v48 = 1#1), ∀ a, (k0_off1443 v740) a + S1x128.size a ≤ S8192x128.size a)
theorem k0_mult552_dvd : ∀ (i : grid0.Coords) (v48 : BitVec 32) (v740 : BitVec 32) (k0_hw558 : k0_chk558 i v48 v740), ∀ (k0_h10 : k0_cond10 i v48 = 1#1), 8 ∣ (k0_mult552 v740).toNat := fun i v48 v740 k0_hw558 k0_h10 => k0_hw558.1 k0_h10
theorem k0_off1442_inb : ∀ (i : grid0.Coords) (v48 : BitVec 32) (v740 : BitVec 32) (k0_hw558 : k0_chk558 i v48 v740), ∀ (k0_h10 : k0_cond10 i v48 = 1#1), ∀ a, (k0_off1442 v740) a + S8x128.size a ≤ S65536x128.size a := fun i v48 v740 k0_hw558 k0_h10 => k0_hw558.2.1 k0_h10
theorem k0_off1443_inb : ∀ (i : grid0.Coords) (v48 : BitVec 32) (v740 : BitVec 32) (k0_hw558 : k0_chk558 i v48 v740), ∀ (k0_h10 : k0_cond10 i v48 = 1#1), ∀ a, (k0_off1443 v740) a + S1x128.size a ≤ S8192x128.size a := fun i v48 v740 k0_hw558 k0_h10 => k0_hw558.2.2 k0_h10

def k0_off1444 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c40_i32 : BitVec 32 := 40#32
  let v755 : BitVec 32 := Scalar.addi v74 c40_i32
  let v756 : Index := Scalar.indexCast v755
  ![v756.toNat]
def k0_mult553 (v757 : BitVec 32) : BitVec 32 :=
  let c3_i32_315 : BitVec 32 := 3#32
  let v758 : BitVec 32 := Scalar.shrsi v757 c3_i32_315
  let c8191_i32_316 : BitVec 32 := 8191#32
  let v759 : BitVec 32 := Scalar.andi v758 c8191_i32_316
  let c8_i32_317 : BitVec 32 := 8#32
  let v760 : BitVec 32 := Scalar.muli v759 c8_i32_317
  v760

def k0_off1445 (v757 : BitVec 32) : Fin 2 → Nat :=
  let c3_i32_315 : BitVec 32 := 3#32
  let v758 : BitVec 32 := Scalar.shrsi v757 c3_i32_315
  let c8191_i32_316 : BitVec 32 := 8191#32
  let v759 : BitVec 32 := Scalar.andi v758 c8191_i32_316
  let c8_i32_317 : BitVec 32 := 8#32
  let v760 : BitVec 32 := Scalar.muli v759 c8_i32_317
  let v761 : BitVec 32 := v760
  let v762 : Index := Scalar.indexCast v761
  let c0_318 : Index := 0#32
  ![v762.toNat, 0]
def k0_off1446 (v757 : BitVec 32) : Fin 2 → Nat :=
  let c3_i32_315 : BitVec 32 := 3#32
  let v758 : BitVec 32 := Scalar.shrsi v757 c3_i32_315
  let c8191_i32_316 : BitVec 32 := 8191#32
  let v759 : BitVec 32 := Scalar.andi v758 c8191_i32_316
  let v767 : Index := Scalar.indexCast v759
  let c0_320 : Index := 0#32
  ![v767.toNat, 0]

def k0_chk559 (i : grid0.Coords) (v48 : BitVec 32) (v757 : BitVec 32) : Prop :=
  (∀ (k0_h10 : k0_cond10 i v48 = 1#1), 8 ∣ (k0_mult553 v757).toNat) ∧
  (∀ (k0_h10 : k0_cond10 i v48 = 1#1), ∀ a, (k0_off1445 v757) a + S8x128.size a ≤ S65536x128.size a) ∧
  (∀ (k0_h10 : k0_cond10 i v48 = 1#1), ∀ a, (k0_off1446 v757) a + S1x128.size a ≤ S8192x128.size a)
theorem k0_mult553_dvd : ∀ (i : grid0.Coords) (v48 : BitVec 32) (v757 : BitVec 32) (k0_hw559 : k0_chk559 i v48 v757), ∀ (k0_h10 : k0_cond10 i v48 = 1#1), 8 ∣ (k0_mult553 v757).toNat := fun i v48 v757 k0_hw559 k0_h10 => k0_hw559.1 k0_h10
theorem k0_off1445_inb : ∀ (i : grid0.Coords) (v48 : BitVec 32) (v757 : BitVec 32) (k0_hw559 : k0_chk559 i v48 v757), ∀ (k0_h10 : k0_cond10 i v48 = 1#1), ∀ a, (k0_off1445 v757) a + S8x128.size a ≤ S65536x128.size a := fun i v48 v757 k0_hw559 k0_h10 => k0_hw559.2.1 k0_h10
theorem k0_off1446_inb : ∀ (i : grid0.Coords) (v48 : BitVec 32) (v757 : BitVec 32) (k0_hw559 : k0_chk559 i v48 v757), ∀ (k0_h10 : k0_cond10 i v48 = 1#1), ∀ a, (k0_off1446 v757) a + S1x128.size a ≤ S8192x128.size a := fun i v48 v757 k0_hw559 k0_h10 => k0_hw559.2.2 k0_h10

def k0_off1447 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c41_i32 : BitVec 32 := 41#32
  let v772 : BitVec 32 := Scalar.addi v74 c41_i32
  let v773 : Index := Scalar.indexCast v772
  ![v773.toNat]
def k0_mult554 (v774 : BitVec 32) : BitVec 32 :=
  let c3_i32_323 : BitVec 32 := 3#32
  let v775 : BitVec 32 := Scalar.shrsi v774 c3_i32_323
  let c8191_i32_324 : BitVec 32 := 8191#32
  let v776 : BitVec 32 := Scalar.andi v775 c8191_i32_324
  let c8_i32_325 : BitVec 32 := 8#32
  let v777 : BitVec 32 := Scalar.muli v776 c8_i32_325
  v777

def k0_off1448 (v774 : BitVec 32) : Fin 2 → Nat :=
  let c3_i32_323 : BitVec 32 := 3#32
  let v775 : BitVec 32 := Scalar.shrsi v774 c3_i32_323
  let c8191_i32_324 : BitVec 32 := 8191#32
  let v776 : BitVec 32 := Scalar.andi v775 c8191_i32_324
  let c8_i32_325 : BitVec 32 := 8#32
  let v777 : BitVec 32 := Scalar.muli v776 c8_i32_325
  let v778 : BitVec 32 := v777
  let v779 : Index := Scalar.indexCast v778
  let c0_326 : Index := 0#32
  ![v779.toNat, 0]
def k0_off1449 (v774 : BitVec 32) : Fin 2 → Nat :=
  let c3_i32_323 : BitVec 32 := 3#32
  let v775 : BitVec 32 := Scalar.shrsi v774 c3_i32_323
  let c8191_i32_324 : BitVec 32 := 8191#32
  let v776 : BitVec 32 := Scalar.andi v775 c8191_i32_324
  let v784 : Index := Scalar.indexCast v776
  let c0_328 : Index := 0#32
  ![v784.toNat, 0]

def k0_chk560 (i : grid0.Coords) (v48 : BitVec 32) (v774 : BitVec 32) : Prop :=
  (∀ (k0_h10 : k0_cond10 i v48 = 1#1), 8 ∣ (k0_mult554 v774).toNat) ∧
  (∀ (k0_h10 : k0_cond10 i v48 = 1#1), ∀ a, (k0_off1448 v774) a + S8x128.size a ≤ S65536x128.size a) ∧
  (∀ (k0_h10 : k0_cond10 i v48 = 1#1), ∀ a, (k0_off1449 v774) a + S1x128.size a ≤ S8192x128.size a)
theorem k0_mult554_dvd : ∀ (i : grid0.Coords) (v48 : BitVec 32) (v774 : BitVec 32) (k0_hw560 : k0_chk560 i v48 v774), ∀ (k0_h10 : k0_cond10 i v48 = 1#1), 8 ∣ (k0_mult554 v774).toNat := fun i v48 v774 k0_hw560 k0_h10 => k0_hw560.1 k0_h10
theorem k0_off1448_inb : ∀ (i : grid0.Coords) (v48 : BitVec 32) (v774 : BitVec 32) (k0_hw560 : k0_chk560 i v48 v774), ∀ (k0_h10 : k0_cond10 i v48 = 1#1), ∀ a, (k0_off1448 v774) a + S8x128.size a ≤ S65536x128.size a := fun i v48 v774 k0_hw560 k0_h10 => k0_hw560.2.1 k0_h10
theorem k0_off1449_inb : ∀ (i : grid0.Coords) (v48 : BitVec 32) (v774 : BitVec 32) (k0_hw560 : k0_chk560 i v48 v774), ∀ (k0_h10 : k0_cond10 i v48 = 1#1), ∀ a, (k0_off1449 v774) a + S1x128.size a ≤ S8192x128.size a := fun i v48 v774 k0_hw560 k0_h10 => k0_hw560.2.2 k0_h10

def k0_off1450 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c42_i32 : BitVec 32 := 42#32
  let v789 : BitVec 32 := Scalar.addi v74 c42_i32
  let v790 : Index := Scalar.indexCast v789
  ![v790.toNat]
def k0_mult555 (v791 : BitVec 32) : BitVec 32 :=
  let c3_i32_330 : BitVec 32 := 3#32
  let v792 : BitVec 32 := Scalar.shrsi v791 c3_i32_330
  let c8191_i32_331 : BitVec 32 := 8191#32
  let v793 : BitVec 32 := Scalar.andi v792 c8191_i32_331
  let c8_i32_332 : BitVec 32 := 8#32
  let v794 : BitVec 32 := Scalar.muli v793 c8_i32_332
  v794

def k0_off1451 (v791 : BitVec 32) : Fin 2 → Nat :=
  let c3_i32_330 : BitVec 32 := 3#32
  let v792 : BitVec 32 := Scalar.shrsi v791 c3_i32_330
  let c8191_i32_331 : BitVec 32 := 8191#32
  let v793 : BitVec 32 := Scalar.andi v792 c8191_i32_331
  let c8_i32_332 : BitVec 32 := 8#32
  let v794 : BitVec 32 := Scalar.muli v793 c8_i32_332
  let v795 : BitVec 32 := v794
  let v796 : Index := Scalar.indexCast v795
  let c0_333 : Index := 0#32
  ![v796.toNat, 0]
def k0_off1452 (v791 : BitVec 32) : Fin 2 → Nat :=
  let c3_i32_330 : BitVec 32 := 3#32
  let v792 : BitVec 32 := Scalar.shrsi v791 c3_i32_330
  let c8191_i32_331 : BitVec 32 := 8191#32
  let v793 : BitVec 32 := Scalar.andi v792 c8191_i32_331
  let v801 : Index := Scalar.indexCast v793
  let c0_335 : Index := 0#32
  ![v801.toNat, 0]

def k0_chk561 (i : grid0.Coords) (v48 : BitVec 32) (v791 : BitVec 32) : Prop :=
  (∀ (k0_h10 : k0_cond10 i v48 = 1#1), 8 ∣ (k0_mult555 v791).toNat) ∧
  (∀ (k0_h10 : k0_cond10 i v48 = 1#1), ∀ a, (k0_off1451 v791) a + S8x128.size a ≤ S65536x128.size a) ∧
  (∀ (k0_h10 : k0_cond10 i v48 = 1#1), ∀ a, (k0_off1452 v791) a + S1x128.size a ≤ S8192x128.size a)
theorem k0_mult555_dvd : ∀ (i : grid0.Coords) (v48 : BitVec 32) (v791 : BitVec 32) (k0_hw561 : k0_chk561 i v48 v791), ∀ (k0_h10 : k0_cond10 i v48 = 1#1), 8 ∣ (k0_mult555 v791).toNat := fun i v48 v791 k0_hw561 k0_h10 => k0_hw561.1 k0_h10
theorem k0_off1451_inb : ∀ (i : grid0.Coords) (v48 : BitVec 32) (v791 : BitVec 32) (k0_hw561 : k0_chk561 i v48 v791), ∀ (k0_h10 : k0_cond10 i v48 = 1#1), ∀ a, (k0_off1451 v791) a + S8x128.size a ≤ S65536x128.size a := fun i v48 v791 k0_hw561 k0_h10 => k0_hw561.2.1 k0_h10
theorem k0_off1452_inb : ∀ (i : grid0.Coords) (v48 : BitVec 32) (v791 : BitVec 32) (k0_hw561 : k0_chk561 i v48 v791), ∀ (k0_h10 : k0_cond10 i v48 = 1#1), ∀ a, (k0_off1452 v791) a + S1x128.size a ≤ S8192x128.size a := fun i v48 v791 k0_hw561 k0_h10 => k0_hw561.2.2 k0_h10

def k0_off1453 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c43_i32 : BitVec 32 := 43#32
  let v806 : BitVec 32 := Scalar.addi v74 c43_i32
  let v807 : Index := Scalar.indexCast v806
  ![v807.toNat]
def k0_mult556 (v808 : BitVec 32) : BitVec 32 :=
  let c3_i32_337 : BitVec 32 := 3#32
  let v809 : BitVec 32 := Scalar.shrsi v808 c3_i32_337
  let c8191_i32_338 : BitVec 32 := 8191#32
  let v810 : BitVec 32 := Scalar.andi v809 c8191_i32_338
  let c8_i32_339 : BitVec 32 := 8#32
  let v811 : BitVec 32 := Scalar.muli v810 c8_i32_339
  v811

def k0_off1454 (v808 : BitVec 32) : Fin 2 → Nat :=
  let c3_i32_337 : BitVec 32 := 3#32
  let v809 : BitVec 32 := Scalar.shrsi v808 c3_i32_337
  let c8191_i32_338 : BitVec 32 := 8191#32
  let v810 : BitVec 32 := Scalar.andi v809 c8191_i32_338
  let c8_i32_339 : BitVec 32 := 8#32
  let v811 : BitVec 32 := Scalar.muli v810 c8_i32_339
  let v812 : BitVec 32 := v811
  let v813 : Index := Scalar.indexCast v812
  let c0_340 : Index := 0#32
  ![v813.toNat, 0]
def k0_off1455 (v808 : BitVec 32) : Fin 2 → Nat :=
  let c3_i32_337 : BitVec 32 := 3#32
  let v809 : BitVec 32 := Scalar.shrsi v808 c3_i32_337
  let c8191_i32_338 : BitVec 32 := 8191#32
  let v810 : BitVec 32 := Scalar.andi v809 c8191_i32_338
  let v818 : Index := Scalar.indexCast v810
  let c0_342 : Index := 0#32
  ![v818.toNat, 0]

def k0_chk562 (i : grid0.Coords) (v48 : BitVec 32) (v808 : BitVec 32) : Prop :=
  (∀ (k0_h10 : k0_cond10 i v48 = 1#1), 8 ∣ (k0_mult556 v808).toNat) ∧
  (∀ (k0_h10 : k0_cond10 i v48 = 1#1), ∀ a, (k0_off1454 v808) a + S8x128.size a ≤ S65536x128.size a) ∧
  (∀ (k0_h10 : k0_cond10 i v48 = 1#1), ∀ a, (k0_off1455 v808) a + S1x128.size a ≤ S8192x128.size a)
theorem k0_mult556_dvd : ∀ (i : grid0.Coords) (v48 : BitVec 32) (v808 : BitVec 32) (k0_hw562 : k0_chk562 i v48 v808), ∀ (k0_h10 : k0_cond10 i v48 = 1#1), 8 ∣ (k0_mult556 v808).toNat := fun i v48 v808 k0_hw562 k0_h10 => k0_hw562.1 k0_h10
theorem k0_off1454_inb : ∀ (i : grid0.Coords) (v48 : BitVec 32) (v808 : BitVec 32) (k0_hw562 : k0_chk562 i v48 v808), ∀ (k0_h10 : k0_cond10 i v48 = 1#1), ∀ a, (k0_off1454 v808) a + S8x128.size a ≤ S65536x128.size a := fun i v48 v808 k0_hw562 k0_h10 => k0_hw562.2.1 k0_h10
theorem k0_off1455_inb : ∀ (i : grid0.Coords) (v48 : BitVec 32) (v808 : BitVec 32) (k0_hw562 : k0_chk562 i v48 v808), ∀ (k0_h10 : k0_cond10 i v48 = 1#1), ∀ a, (k0_off1455 v808) a + S1x128.size a ≤ S8192x128.size a := fun i v48 v808 k0_hw562 k0_h10 => k0_hw562.2.2 k0_h10

def k0_off1456 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c44_i32 : BitVec 32 := 44#32
  let v823 : BitVec 32 := Scalar.addi v74 c44_i32
  let v824 : Index := Scalar.indexCast v823
  ![v824.toNat]
def k0_mult557 (v825 : BitVec 32) : BitVec 32 :=
  let c3_i32_344 : BitVec 32 := 3#32
  let v826 : BitVec 32 := Scalar.shrsi v825 c3_i32_344
  let c8191_i32_345 : BitVec 32 := 8191#32
  let v827 : BitVec 32 := Scalar.andi v826 c8191_i32_345
  let c8_i32_346 : BitVec 32 := 8#32
  let v828 : BitVec 32 := Scalar.muli v827 c8_i32_346
  v828

def k0_off1457 (v825 : BitVec 32) : Fin 2 → Nat :=
  let c3_i32_344 : BitVec 32 := 3#32
  let v826 : BitVec 32 := Scalar.shrsi v825 c3_i32_344
  let c8191_i32_345 : BitVec 32 := 8191#32
  let v827 : BitVec 32 := Scalar.andi v826 c8191_i32_345
  let c8_i32_346 : BitVec 32 := 8#32
  let v828 : BitVec 32 := Scalar.muli v827 c8_i32_346
  let v829 : BitVec 32 := v828
  let v830 : Index := Scalar.indexCast v829
  let c0_347 : Index := 0#32
  ![v830.toNat, 0]
def k0_off1458 (v825 : BitVec 32) : Fin 2 → Nat :=
  let c3_i32_344 : BitVec 32 := 3#32
  let v826 : BitVec 32 := Scalar.shrsi v825 c3_i32_344
  let c8191_i32_345 : BitVec 32 := 8191#32
  let v827 : BitVec 32 := Scalar.andi v826 c8191_i32_345
  let v835 : Index := Scalar.indexCast v827
  let c0_349 : Index := 0#32
  ![v835.toNat, 0]

def k0_chk563 (i : grid0.Coords) (v48 : BitVec 32) (v825 : BitVec 32) : Prop :=
  (∀ (k0_h10 : k0_cond10 i v48 = 1#1), 8 ∣ (k0_mult557 v825).toNat) ∧
  (∀ (k0_h10 : k0_cond10 i v48 = 1#1), ∀ a, (k0_off1457 v825) a + S8x128.size a ≤ S65536x128.size a) ∧
  (∀ (k0_h10 : k0_cond10 i v48 = 1#1), ∀ a, (k0_off1458 v825) a + S1x128.size a ≤ S8192x128.size a)
theorem k0_mult557_dvd : ∀ (i : grid0.Coords) (v48 : BitVec 32) (v825 : BitVec 32) (k0_hw563 : k0_chk563 i v48 v825), ∀ (k0_h10 : k0_cond10 i v48 = 1#1), 8 ∣ (k0_mult557 v825).toNat := fun i v48 v825 k0_hw563 k0_h10 => k0_hw563.1 k0_h10
theorem k0_off1457_inb : ∀ (i : grid0.Coords) (v48 : BitVec 32) (v825 : BitVec 32) (k0_hw563 : k0_chk563 i v48 v825), ∀ (k0_h10 : k0_cond10 i v48 = 1#1), ∀ a, (k0_off1457 v825) a + S8x128.size a ≤ S65536x128.size a := fun i v48 v825 k0_hw563 k0_h10 => k0_hw563.2.1 k0_h10
theorem k0_off1458_inb : ∀ (i : grid0.Coords) (v48 : BitVec 32) (v825 : BitVec 32) (k0_hw563 : k0_chk563 i v48 v825), ∀ (k0_h10 : k0_cond10 i v48 = 1#1), ∀ a, (k0_off1458 v825) a + S1x128.size a ≤ S8192x128.size a := fun i v48 v825 k0_hw563 k0_h10 => k0_hw563.2.2 k0_h10

def k0_off1459 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c45_i32 : BitVec 32 := 45#32
  let v840 : BitVec 32 := Scalar.addi v74 c45_i32
  let v841 : Index := Scalar.indexCast v840
  ![v841.toNat]
def k0_mult558 (v842 : BitVec 32) : BitVec 32 :=
  let c3_i32_351 : BitVec 32 := 3#32
  let v843 : BitVec 32 := Scalar.shrsi v842 c3_i32_351
  let c8191_i32_352 : BitVec 32 := 8191#32
  let v844 : BitVec 32 := Scalar.andi v843 c8191_i32_352
  let c8_i32_353 : BitVec 32 := 8#32
  let v845 : BitVec 32 := Scalar.muli v844 c8_i32_353
  v845

def k0_off1460 (v842 : BitVec 32) : Fin 2 → Nat :=
  let c3_i32_351 : BitVec 32 := 3#32
  let v843 : BitVec 32 := Scalar.shrsi v842 c3_i32_351
  let c8191_i32_352 : BitVec 32 := 8191#32
  let v844 : BitVec 32 := Scalar.andi v843 c8191_i32_352
  let c8_i32_353 : BitVec 32 := 8#32
  let v845 : BitVec 32 := Scalar.muli v844 c8_i32_353
  let v846 : BitVec 32 := v845
  let v847 : Index := Scalar.indexCast v846
  let c0_354 : Index := 0#32
  ![v847.toNat, 0]
def k0_off1461 (v842 : BitVec 32) : Fin 2 → Nat :=
  let c3_i32_351 : BitVec 32 := 3#32
  let v843 : BitVec 32 := Scalar.shrsi v842 c3_i32_351
  let c8191_i32_352 : BitVec 32 := 8191#32
  let v844 : BitVec 32 := Scalar.andi v843 c8191_i32_352
  let v852 : Index := Scalar.indexCast v844
  let c0_356 : Index := 0#32
  ![v852.toNat, 0]

def k0_chk564 (i : grid0.Coords) (v48 : BitVec 32) (v842 : BitVec 32) : Prop :=
  (∀ (k0_h10 : k0_cond10 i v48 = 1#1), 8 ∣ (k0_mult558 v842).toNat) ∧
  (∀ (k0_h10 : k0_cond10 i v48 = 1#1), ∀ a, (k0_off1460 v842) a + S8x128.size a ≤ S65536x128.size a) ∧
  (∀ (k0_h10 : k0_cond10 i v48 = 1#1), ∀ a, (k0_off1461 v842) a + S1x128.size a ≤ S8192x128.size a)
theorem k0_mult558_dvd : ∀ (i : grid0.Coords) (v48 : BitVec 32) (v842 : BitVec 32) (k0_hw564 : k0_chk564 i v48 v842), ∀ (k0_h10 : k0_cond10 i v48 = 1#1), 8 ∣ (k0_mult558 v842).toNat := fun i v48 v842 k0_hw564 k0_h10 => k0_hw564.1 k0_h10
theorem k0_off1460_inb : ∀ (i : grid0.Coords) (v48 : BitVec 32) (v842 : BitVec 32) (k0_hw564 : k0_chk564 i v48 v842), ∀ (k0_h10 : k0_cond10 i v48 = 1#1), ∀ a, (k0_off1460 v842) a + S8x128.size a ≤ S65536x128.size a := fun i v48 v842 k0_hw564 k0_h10 => k0_hw564.2.1 k0_h10
theorem k0_off1461_inb : ∀ (i : grid0.Coords) (v48 : BitVec 32) (v842 : BitVec 32) (k0_hw564 : k0_chk564 i v48 v842), ∀ (k0_h10 : k0_cond10 i v48 = 1#1), ∀ a, (k0_off1461 v842) a + S1x128.size a ≤ S8192x128.size a := fun i v48 v842 k0_hw564 k0_h10 => k0_hw564.2.2 k0_h10

def k0_off1462 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c46_i32 : BitVec 32 := 46#32
  let v857 : BitVec 32 := Scalar.addi v74 c46_i32
  let v858 : Index := Scalar.indexCast v857
  ![v858.toNat]
def k0_mult559 (v859 : BitVec 32) : BitVec 32 :=
  let c3_i32_358 : BitVec 32 := 3#32
  let v860 : BitVec 32 := Scalar.shrsi v859 c3_i32_358
  let c8191_i32_359 : BitVec 32 := 8191#32
  let v861 : BitVec 32 := Scalar.andi v860 c8191_i32_359
  let c8_i32_360 : BitVec 32 := 8#32
  let v862 : BitVec 32 := Scalar.muli v861 c8_i32_360
  v862

def k0_off1463 (v859 : BitVec 32) : Fin 2 → Nat :=
  let c3_i32_358 : BitVec 32 := 3#32
  let v860 : BitVec 32 := Scalar.shrsi v859 c3_i32_358
  let c8191_i32_359 : BitVec 32 := 8191#32
  let v861 : BitVec 32 := Scalar.andi v860 c8191_i32_359
  let c8_i32_360 : BitVec 32 := 8#32
  let v862 : BitVec 32 := Scalar.muli v861 c8_i32_360
  let v863 : BitVec 32 := v862
  let v864 : Index := Scalar.indexCast v863
  let c0_361 : Index := 0#32
  ![v864.toNat, 0]
def k0_off1464 (v859 : BitVec 32) : Fin 2 → Nat :=
  let c3_i32_358 : BitVec 32 := 3#32
  let v860 : BitVec 32 := Scalar.shrsi v859 c3_i32_358
  let c8191_i32_359 : BitVec 32 := 8191#32
  let v861 : BitVec 32 := Scalar.andi v860 c8191_i32_359
  let v869 : Index := Scalar.indexCast v861
  let c0_363 : Index := 0#32
  ![v869.toNat, 0]

def k0_chk565 (i : grid0.Coords) (v48 : BitVec 32) (v859 : BitVec 32) : Prop :=
  (∀ (k0_h10 : k0_cond10 i v48 = 1#1), 8 ∣ (k0_mult559 v859).toNat) ∧
  (∀ (k0_h10 : k0_cond10 i v48 = 1#1), ∀ a, (k0_off1463 v859) a + S8x128.size a ≤ S65536x128.size a) ∧
  (∀ (k0_h10 : k0_cond10 i v48 = 1#1), ∀ a, (k0_off1464 v859) a + S1x128.size a ≤ S8192x128.size a)
theorem k0_mult559_dvd : ∀ (i : grid0.Coords) (v48 : BitVec 32) (v859 : BitVec 32) (k0_hw565 : k0_chk565 i v48 v859), ∀ (k0_h10 : k0_cond10 i v48 = 1#1), 8 ∣ (k0_mult559 v859).toNat := fun i v48 v859 k0_hw565 k0_h10 => k0_hw565.1 k0_h10
theorem k0_off1463_inb : ∀ (i : grid0.Coords) (v48 : BitVec 32) (v859 : BitVec 32) (k0_hw565 : k0_chk565 i v48 v859), ∀ (k0_h10 : k0_cond10 i v48 = 1#1), ∀ a, (k0_off1463 v859) a + S8x128.size a ≤ S65536x128.size a := fun i v48 v859 k0_hw565 k0_h10 => k0_hw565.2.1 k0_h10
theorem k0_off1464_inb : ∀ (i : grid0.Coords) (v48 : BitVec 32) (v859 : BitVec 32) (k0_hw565 : k0_chk565 i v48 v859), ∀ (k0_h10 : k0_cond10 i v48 = 1#1), ∀ a, (k0_off1464 v859) a + S1x128.size a ≤ S8192x128.size a := fun i v48 v859 k0_hw565 k0_h10 => k0_hw565.2.2 k0_h10

def k0_off1465 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c47_i32 : BitVec 32 := 47#32
  let v874 : BitVec 32 := Scalar.addi v74 c47_i32
  let v875 : Index := Scalar.indexCast v874
  ![v875.toNat]
def k0_mult560 (v876 : BitVec 32) : BitVec 32 :=
  let c3_i32_365 : BitVec 32 := 3#32
  let v877 : BitVec 32 := Scalar.shrsi v876 c3_i32_365
  let c8191_i32_366 : BitVec 32 := 8191#32
  let v878 : BitVec 32 := Scalar.andi v877 c8191_i32_366
  let c8_i32_367 : BitVec 32 := 8#32
  let v879 : BitVec 32 := Scalar.muli v878 c8_i32_367
  v879

def k0_off1466 (v876 : BitVec 32) : Fin 2 → Nat :=
  let c3_i32_365 : BitVec 32 := 3#32
  let v877 : BitVec 32 := Scalar.shrsi v876 c3_i32_365
  let c8191_i32_366 : BitVec 32 := 8191#32
  let v878 : BitVec 32 := Scalar.andi v877 c8191_i32_366
  let c8_i32_367 : BitVec 32 := 8#32
  let v879 : BitVec 32 := Scalar.muli v878 c8_i32_367
  let v880 : BitVec 32 := v879
  let v881 : Index := Scalar.indexCast v880
  let c0_368 : Index := 0#32
  ![v881.toNat, 0]
def k0_off1467 (v876 : BitVec 32) : Fin 2 → Nat :=
  let c3_i32_365 : BitVec 32 := 3#32
  let v877 : BitVec 32 := Scalar.shrsi v876 c3_i32_365
  let c8191_i32_366 : BitVec 32 := 8191#32
  let v878 : BitVec 32 := Scalar.andi v877 c8191_i32_366
  let v886 : Index := Scalar.indexCast v878
  let c0_370 : Index := 0#32
  ![v886.toNat, 0]

def k0_chk566 (i : grid0.Coords) (v48 : BitVec 32) (v876 : BitVec 32) : Prop :=
  (∀ (k0_h10 : k0_cond10 i v48 = 1#1), 8 ∣ (k0_mult560 v876).toNat) ∧
  (∀ (k0_h10 : k0_cond10 i v48 = 1#1), ∀ a, (k0_off1466 v876) a + S8x128.size a ≤ S65536x128.size a) ∧
  (∀ (k0_h10 : k0_cond10 i v48 = 1#1), ∀ a, (k0_off1467 v876) a + S1x128.size a ≤ S8192x128.size a)
theorem k0_mult560_dvd : ∀ (i : grid0.Coords) (v48 : BitVec 32) (v876 : BitVec 32) (k0_hw566 : k0_chk566 i v48 v876), ∀ (k0_h10 : k0_cond10 i v48 = 1#1), 8 ∣ (k0_mult560 v876).toNat := fun i v48 v876 k0_hw566 k0_h10 => k0_hw566.1 k0_h10
theorem k0_off1466_inb : ∀ (i : grid0.Coords) (v48 : BitVec 32) (v876 : BitVec 32) (k0_hw566 : k0_chk566 i v48 v876), ∀ (k0_h10 : k0_cond10 i v48 = 1#1), ∀ a, (k0_off1466 v876) a + S8x128.size a ≤ S65536x128.size a := fun i v48 v876 k0_hw566 k0_h10 => k0_hw566.2.1 k0_h10
theorem k0_off1467_inb : ∀ (i : grid0.Coords) (v48 : BitVec 32) (v876 : BitVec 32) (k0_hw566 : k0_chk566 i v48 v876), ∀ (k0_h10 : k0_cond10 i v48 = 1#1), ∀ a, (k0_off1467 v876) a + S1x128.size a ≤ S8192x128.size a := fun i v48 v876 k0_hw566 k0_h10 => k0_hw566.2.2 k0_h10

def k0_off1468 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c48_i32 : BitVec 32 := 48#32
  let v891 : BitVec 32 := Scalar.addi v74 c48_i32
  let v892 : Index := Scalar.indexCast v891
  ![v892.toNat]
def k0_mult561 (v893 : BitVec 32) : BitVec 32 :=
  let c3_i32_372 : BitVec 32 := 3#32
  let v894 : BitVec 32 := Scalar.shrsi v893 c3_i32_372
  let c8191_i32_373 : BitVec 32 := 8191#32
  let v895 : BitVec 32 := Scalar.andi v894 c8191_i32_373
  let c8_i32_374 : BitVec 32 := 8#32
  let v896 : BitVec 32 := Scalar.muli v895 c8_i32_374
  v896

def k0_off1469 (v893 : BitVec 32) : Fin 2 → Nat :=
  let c3_i32_372 : BitVec 32 := 3#32
  let v894 : BitVec 32 := Scalar.shrsi v893 c3_i32_372
  let c8191_i32_373 : BitVec 32 := 8191#32
  let v895 : BitVec 32 := Scalar.andi v894 c8191_i32_373
  let c8_i32_374 : BitVec 32 := 8#32
  let v896 : BitVec 32 := Scalar.muli v895 c8_i32_374
  let v897 : BitVec 32 := v896
  let v898 : Index := Scalar.indexCast v897
  let c0_375 : Index := 0#32
  ![v898.toNat, 0]
def k0_off1470 (v893 : BitVec 32) : Fin 2 → Nat :=
  let c3_i32_372 : BitVec 32 := 3#32
  let v894 : BitVec 32 := Scalar.shrsi v893 c3_i32_372
  let c8191_i32_373 : BitVec 32 := 8191#32
  let v895 : BitVec 32 := Scalar.andi v894 c8191_i32_373
  let v903 : Index := Scalar.indexCast v895
  let c0_377 : Index := 0#32
  ![v903.toNat, 0]

def k0_chk567 (i : grid0.Coords) (v48 : BitVec 32) (v893 : BitVec 32) : Prop :=
  (∀ (k0_h10 : k0_cond10 i v48 = 1#1), 8 ∣ (k0_mult561 v893).toNat) ∧
  (∀ (k0_h10 : k0_cond10 i v48 = 1#1), ∀ a, (k0_off1469 v893) a + S8x128.size a ≤ S65536x128.size a) ∧
  (∀ (k0_h10 : k0_cond10 i v48 = 1#1), ∀ a, (k0_off1470 v893) a + S1x128.size a ≤ S8192x128.size a)
theorem k0_mult561_dvd : ∀ (i : grid0.Coords) (v48 : BitVec 32) (v893 : BitVec 32) (k0_hw567 : k0_chk567 i v48 v893), ∀ (k0_h10 : k0_cond10 i v48 = 1#1), 8 ∣ (k0_mult561 v893).toNat := fun i v48 v893 k0_hw567 k0_h10 => k0_hw567.1 k0_h10
theorem k0_off1469_inb : ∀ (i : grid0.Coords) (v48 : BitVec 32) (v893 : BitVec 32) (k0_hw567 : k0_chk567 i v48 v893), ∀ (k0_h10 : k0_cond10 i v48 = 1#1), ∀ a, (k0_off1469 v893) a + S8x128.size a ≤ S65536x128.size a := fun i v48 v893 k0_hw567 k0_h10 => k0_hw567.2.1 k0_h10
theorem k0_off1470_inb : ∀ (i : grid0.Coords) (v48 : BitVec 32) (v893 : BitVec 32) (k0_hw567 : k0_chk567 i v48 v893), ∀ (k0_h10 : k0_cond10 i v48 = 1#1), ∀ a, (k0_off1470 v893) a + S1x128.size a ≤ S8192x128.size a := fun i v48 v893 k0_hw567 k0_h10 => k0_hw567.2.2 k0_h10

def k0_off1471 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c49_i32 : BitVec 32 := 49#32
  let v908 : BitVec 32 := Scalar.addi v74 c49_i32
  let v909 : Index := Scalar.indexCast v908
  ![v909.toNat]
def k0_mult562 (v910 : BitVec 32) : BitVec 32 :=
  let c3_i32_380 : BitVec 32 := 3#32
  let v911 : BitVec 32 := Scalar.shrsi v910 c3_i32_380
  let c8191_i32_381 : BitVec 32 := 8191#32
  let v912 : BitVec 32 := Scalar.andi v911 c8191_i32_381
  let c8_i32_382 : BitVec 32 := 8#32
  let v913 : BitVec 32 := Scalar.muli v912 c8_i32_382
  v913

def k0_off1472 (v910 : BitVec 32) : Fin 2 → Nat :=
  let c3_i32_380 : BitVec 32 := 3#32
  let v911 : BitVec 32 := Scalar.shrsi v910 c3_i32_380
  let c8191_i32_381 : BitVec 32 := 8191#32
  let v912 : BitVec 32 := Scalar.andi v911 c8191_i32_381
  let c8_i32_382 : BitVec 32 := 8#32
  let v913 : BitVec 32 := Scalar.muli v912 c8_i32_382
  let v914 : BitVec 32 := v913
  let v915 : Index := Scalar.indexCast v914
  let c0_383 : Index := 0#32
  ![v915.toNat, 0]
def k0_off1473 (v910 : BitVec 32) : Fin 2 → Nat :=
  let c3_i32_380 : BitVec 32 := 3#32
  let v911 : BitVec 32 := Scalar.shrsi v910 c3_i32_380
  let c8191_i32_381 : BitVec 32 := 8191#32
  let v912 : BitVec 32 := Scalar.andi v911 c8191_i32_381
  let v920 : Index := Scalar.indexCast v912
  let c0_385 : Index := 0#32
  ![v920.toNat, 0]

def k0_chk568 (i : grid0.Coords) (v48 : BitVec 32) (v910 : BitVec 32) : Prop :=
  (∀ (k0_h10 : k0_cond10 i v48 = 1#1), 8 ∣ (k0_mult562 v910).toNat) ∧
  (∀ (k0_h10 : k0_cond10 i v48 = 1#1), ∀ a, (k0_off1472 v910) a + S8x128.size a ≤ S65536x128.size a) ∧
  (∀ (k0_h10 : k0_cond10 i v48 = 1#1), ∀ a, (k0_off1473 v910) a + S1x128.size a ≤ S8192x128.size a)
theorem k0_mult562_dvd : ∀ (i : grid0.Coords) (v48 : BitVec 32) (v910 : BitVec 32) (k0_hw568 : k0_chk568 i v48 v910), ∀ (k0_h10 : k0_cond10 i v48 = 1#1), 8 ∣ (k0_mult562 v910).toNat := fun i v48 v910 k0_hw568 k0_h10 => k0_hw568.1 k0_h10
theorem k0_off1472_inb : ∀ (i : grid0.Coords) (v48 : BitVec 32) (v910 : BitVec 32) (k0_hw568 : k0_chk568 i v48 v910), ∀ (k0_h10 : k0_cond10 i v48 = 1#1), ∀ a, (k0_off1472 v910) a + S8x128.size a ≤ S65536x128.size a := fun i v48 v910 k0_hw568 k0_h10 => k0_hw568.2.1 k0_h10
theorem k0_off1473_inb : ∀ (i : grid0.Coords) (v48 : BitVec 32) (v910 : BitVec 32) (k0_hw568 : k0_chk568 i v48 v910), ∀ (k0_h10 : k0_cond10 i v48 = 1#1), ∀ a, (k0_off1473 v910) a + S1x128.size a ≤ S8192x128.size a := fun i v48 v910 k0_hw568 k0_h10 => k0_hw568.2.2 k0_h10

def k0_off1474 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c50_i32 : BitVec 32 := 50#32
  let v925 : BitVec 32 := Scalar.addi v74 c50_i32
  let v926 : Index := Scalar.indexCast v925
  ![v926.toNat]
def k0_mult563 (v927 : BitVec 32) : BitVec 32 :=
  let c3_i32_387 : BitVec 32 := 3#32
  let v928 : BitVec 32 := Scalar.shrsi v927 c3_i32_387
  let c8191_i32_388 : BitVec 32 := 8191#32
  let v929 : BitVec 32 := Scalar.andi v928 c8191_i32_388
  let c8_i32_389 : BitVec 32 := 8#32
  let v930 : BitVec 32 := Scalar.muli v929 c8_i32_389
  v930

def k0_off1475 (v927 : BitVec 32) : Fin 2 → Nat :=
  let c3_i32_387 : BitVec 32 := 3#32
  let v928 : BitVec 32 := Scalar.shrsi v927 c3_i32_387
  let c8191_i32_388 : BitVec 32 := 8191#32
  let v929 : BitVec 32 := Scalar.andi v928 c8191_i32_388
  let c8_i32_389 : BitVec 32 := 8#32
  let v930 : BitVec 32 := Scalar.muli v929 c8_i32_389
  let v931 : BitVec 32 := v930
  let v932 : Index := Scalar.indexCast v931
  let c0_390 : Index := 0#32
  ![v932.toNat, 0]
def k0_off1476 (v927 : BitVec 32) : Fin 2 → Nat :=
  let c3_i32_387 : BitVec 32 := 3#32
  let v928 : BitVec 32 := Scalar.shrsi v927 c3_i32_387
  let c8191_i32_388 : BitVec 32 := 8191#32
  let v929 : BitVec 32 := Scalar.andi v928 c8191_i32_388
  let v937 : Index := Scalar.indexCast v929
  let c0_392 : Index := 0#32
  ![v937.toNat, 0]

def k0_chk569 (i : grid0.Coords) (v48 : BitVec 32) (v927 : BitVec 32) : Prop :=
  (∀ (k0_h10 : k0_cond10 i v48 = 1#1), 8 ∣ (k0_mult563 v927).toNat) ∧
  (∀ (k0_h10 : k0_cond10 i v48 = 1#1), ∀ a, (k0_off1475 v927) a + S8x128.size a ≤ S65536x128.size a) ∧
  (∀ (k0_h10 : k0_cond10 i v48 = 1#1), ∀ a, (k0_off1476 v927) a + S1x128.size a ≤ S8192x128.size a)
theorem k0_mult563_dvd : ∀ (i : grid0.Coords) (v48 : BitVec 32) (v927 : BitVec 32) (k0_hw569 : k0_chk569 i v48 v927), ∀ (k0_h10 : k0_cond10 i v48 = 1#1), 8 ∣ (k0_mult563 v927).toNat := fun i v48 v927 k0_hw569 k0_h10 => k0_hw569.1 k0_h10
theorem k0_off1475_inb : ∀ (i : grid0.Coords) (v48 : BitVec 32) (v927 : BitVec 32) (k0_hw569 : k0_chk569 i v48 v927), ∀ (k0_h10 : k0_cond10 i v48 = 1#1), ∀ a, (k0_off1475 v927) a + S8x128.size a ≤ S65536x128.size a := fun i v48 v927 k0_hw569 k0_h10 => k0_hw569.2.1 k0_h10
theorem k0_off1476_inb : ∀ (i : grid0.Coords) (v48 : BitVec 32) (v927 : BitVec 32) (k0_hw569 : k0_chk569 i v48 v927), ∀ (k0_h10 : k0_cond10 i v48 = 1#1), ∀ a, (k0_off1476 v927) a + S1x128.size a ≤ S8192x128.size a := fun i v48 v927 k0_hw569 k0_h10 => k0_hw569.2.2 k0_h10

def k0_off1477 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c51_i32 : BitVec 32 := 51#32
  let v942 : BitVec 32 := Scalar.addi v74 c51_i32
  let v943 : Index := Scalar.indexCast v942
  ![v943.toNat]
def k0_mult564 (v944 : BitVec 32) : BitVec 32 :=
  let c3_i32_394 : BitVec 32 := 3#32
  let v945 : BitVec 32 := Scalar.shrsi v944 c3_i32_394
  let c8191_i32_395 : BitVec 32 := 8191#32
  let v946 : BitVec 32 := Scalar.andi v945 c8191_i32_395
  let c8_i32_396 : BitVec 32 := 8#32
  let v947 : BitVec 32 := Scalar.muli v946 c8_i32_396
  v947

def k0_off1478 (v944 : BitVec 32) : Fin 2 → Nat :=
  let c3_i32_394 : BitVec 32 := 3#32
  let v945 : BitVec 32 := Scalar.shrsi v944 c3_i32_394
  let c8191_i32_395 : BitVec 32 := 8191#32
  let v946 : BitVec 32 := Scalar.andi v945 c8191_i32_395
  let c8_i32_396 : BitVec 32 := 8#32
  let v947 : BitVec 32 := Scalar.muli v946 c8_i32_396
  let v948 : BitVec 32 := v947
  let v949 : Index := Scalar.indexCast v948
  let c0_397 : Index := 0#32
  ![v949.toNat, 0]
def k0_off1479 (v944 : BitVec 32) : Fin 2 → Nat :=
  let c3_i32_394 : BitVec 32 := 3#32
  let v945 : BitVec 32 := Scalar.shrsi v944 c3_i32_394
  let c8191_i32_395 : BitVec 32 := 8191#32
  let v946 : BitVec 32 := Scalar.andi v945 c8191_i32_395
  let v954 : Index := Scalar.indexCast v946
  let c0_399 : Index := 0#32
  ![v954.toNat, 0]

def k0_chk570 (i : grid0.Coords) (v48 : BitVec 32) (v944 : BitVec 32) : Prop :=
  (∀ (k0_h10 : k0_cond10 i v48 = 1#1), 8 ∣ (k0_mult564 v944).toNat) ∧
  (∀ (k0_h10 : k0_cond10 i v48 = 1#1), ∀ a, (k0_off1478 v944) a + S8x128.size a ≤ S65536x128.size a) ∧
  (∀ (k0_h10 : k0_cond10 i v48 = 1#1), ∀ a, (k0_off1479 v944) a + S1x128.size a ≤ S8192x128.size a)
theorem k0_mult564_dvd : ∀ (i : grid0.Coords) (v48 : BitVec 32) (v944 : BitVec 32) (k0_hw570 : k0_chk570 i v48 v944), ∀ (k0_h10 : k0_cond10 i v48 = 1#1), 8 ∣ (k0_mult564 v944).toNat := fun i v48 v944 k0_hw570 k0_h10 => k0_hw570.1 k0_h10
theorem k0_off1478_inb : ∀ (i : grid0.Coords) (v48 : BitVec 32) (v944 : BitVec 32) (k0_hw570 : k0_chk570 i v48 v944), ∀ (k0_h10 : k0_cond10 i v48 = 1#1), ∀ a, (k0_off1478 v944) a + S8x128.size a ≤ S65536x128.size a := fun i v48 v944 k0_hw570 k0_h10 => k0_hw570.2.1 k0_h10
theorem k0_off1479_inb : ∀ (i : grid0.Coords) (v48 : BitVec 32) (v944 : BitVec 32) (k0_hw570 : k0_chk570 i v48 v944), ∀ (k0_h10 : k0_cond10 i v48 = 1#1), ∀ a, (k0_off1479 v944) a + S1x128.size a ≤ S8192x128.size a := fun i v48 v944 k0_hw570 k0_h10 => k0_hw570.2.2 k0_h10

def k0_off1480 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c52_i32 : BitVec 32 := 52#32
  let v959 : BitVec 32 := Scalar.addi v74 c52_i32
  let v960 : Index := Scalar.indexCast v959
  ![v960.toNat]
def k0_mult565 (v961 : BitVec 32) : BitVec 32 :=
  let c3_i32_401 : BitVec 32 := 3#32
  let v962 : BitVec 32 := Scalar.shrsi v961 c3_i32_401
  let c8191_i32_402 : BitVec 32 := 8191#32
  let v963 : BitVec 32 := Scalar.andi v962 c8191_i32_402
  let c8_i32_403 : BitVec 32 := 8#32
  let v964 : BitVec 32 := Scalar.muli v963 c8_i32_403
  v964

def k0_off1481 (v961 : BitVec 32) : Fin 2 → Nat :=
  let c3_i32_401 : BitVec 32 := 3#32
  let v962 : BitVec 32 := Scalar.shrsi v961 c3_i32_401
  let c8191_i32_402 : BitVec 32 := 8191#32
  let v963 : BitVec 32 := Scalar.andi v962 c8191_i32_402
  let c8_i32_403 : BitVec 32 := 8#32
  let v964 : BitVec 32 := Scalar.muli v963 c8_i32_403
  let v965 : BitVec 32 := v964
  let v966 : Index := Scalar.indexCast v965
  let c0_404 : Index := 0#32
  ![v966.toNat, 0]
def k0_off1482 (v961 : BitVec 32) : Fin 2 → Nat :=
  let c3_i32_401 : BitVec 32 := 3#32
  let v962 : BitVec 32 := Scalar.shrsi v961 c3_i32_401
  let c8191_i32_402 : BitVec 32 := 8191#32
  let v963 : BitVec 32 := Scalar.andi v962 c8191_i32_402
  let v971 : Index := Scalar.indexCast v963
  let c0_406 : Index := 0#32
  ![v971.toNat, 0]

def k0_chk571 (i : grid0.Coords) (v48 : BitVec 32) (v961 : BitVec 32) : Prop :=
  (∀ (k0_h10 : k0_cond10 i v48 = 1#1), 8 ∣ (k0_mult565 v961).toNat) ∧
  (∀ (k0_h10 : k0_cond10 i v48 = 1#1), ∀ a, (k0_off1481 v961) a + S8x128.size a ≤ S65536x128.size a) ∧
  (∀ (k0_h10 : k0_cond10 i v48 = 1#1), ∀ a, (k0_off1482 v961) a + S1x128.size a ≤ S8192x128.size a)
theorem k0_mult565_dvd : ∀ (i : grid0.Coords) (v48 : BitVec 32) (v961 : BitVec 32) (k0_hw571 : k0_chk571 i v48 v961), ∀ (k0_h10 : k0_cond10 i v48 = 1#1), 8 ∣ (k0_mult565 v961).toNat := fun i v48 v961 k0_hw571 k0_h10 => k0_hw571.1 k0_h10
theorem k0_off1481_inb : ∀ (i : grid0.Coords) (v48 : BitVec 32) (v961 : BitVec 32) (k0_hw571 : k0_chk571 i v48 v961), ∀ (k0_h10 : k0_cond10 i v48 = 1#1), ∀ a, (k0_off1481 v961) a + S8x128.size a ≤ S65536x128.size a := fun i v48 v961 k0_hw571 k0_h10 => k0_hw571.2.1 k0_h10
theorem k0_off1482_inb : ∀ (i : grid0.Coords) (v48 : BitVec 32) (v961 : BitVec 32) (k0_hw571 : k0_chk571 i v48 v961), ∀ (k0_h10 : k0_cond10 i v48 = 1#1), ∀ a, (k0_off1482 v961) a + S1x128.size a ≤ S8192x128.size a := fun i v48 v961 k0_hw571 k0_h10 => k0_hw571.2.2 k0_h10

def k0_off1483 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c53_i32 : BitVec 32 := 53#32
  let v976 : BitVec 32 := Scalar.addi v74 c53_i32
  let v977 : Index := Scalar.indexCast v976
  ![v977.toNat]
def k0_mult566 (v978 : BitVec 32) : BitVec 32 :=
  let c3_i32_408 : BitVec 32 := 3#32
  let v979 : BitVec 32 := Scalar.shrsi v978 c3_i32_408
  let c8191_i32_409 : BitVec 32 := 8191#32
  let v980 : BitVec 32 := Scalar.andi v979 c8191_i32_409
  let c8_i32_410 : BitVec 32 := 8#32
  let v981 : BitVec 32 := Scalar.muli v980 c8_i32_410
  v981

def k0_off1484 (v978 : BitVec 32) : Fin 2 → Nat :=
  let c3_i32_408 : BitVec 32 := 3#32
  let v979 : BitVec 32 := Scalar.shrsi v978 c3_i32_408
  let c8191_i32_409 : BitVec 32 := 8191#32
  let v980 : BitVec 32 := Scalar.andi v979 c8191_i32_409
  let c8_i32_410 : BitVec 32 := 8#32
  let v981 : BitVec 32 := Scalar.muli v980 c8_i32_410
  let v982 : BitVec 32 := v981
  let v983 : Index := Scalar.indexCast v982
  let c0_411 : Index := 0#32
  ![v983.toNat, 0]
def k0_off1485 (v978 : BitVec 32) : Fin 2 → Nat :=
  let c3_i32_408 : BitVec 32 := 3#32
  let v979 : BitVec 32 := Scalar.shrsi v978 c3_i32_408
  let c8191_i32_409 : BitVec 32 := 8191#32
  let v980 : BitVec 32 := Scalar.andi v979 c8191_i32_409
  let v988 : Index := Scalar.indexCast v980
  let c0_413 : Index := 0#32
  ![v988.toNat, 0]

def k0_chk572 (i : grid0.Coords) (v48 : BitVec 32) (v978 : BitVec 32) : Prop :=
  (∀ (k0_h10 : k0_cond10 i v48 = 1#1), 8 ∣ (k0_mult566 v978).toNat) ∧
  (∀ (k0_h10 : k0_cond10 i v48 = 1#1), ∀ a, (k0_off1484 v978) a + S8x128.size a ≤ S65536x128.size a) ∧
  (∀ (k0_h10 : k0_cond10 i v48 = 1#1), ∀ a, (k0_off1485 v978) a + S1x128.size a ≤ S8192x128.size a)
theorem k0_mult566_dvd : ∀ (i : grid0.Coords) (v48 : BitVec 32) (v978 : BitVec 32) (k0_hw572 : k0_chk572 i v48 v978), ∀ (k0_h10 : k0_cond10 i v48 = 1#1), 8 ∣ (k0_mult566 v978).toNat := fun i v48 v978 k0_hw572 k0_h10 => k0_hw572.1 k0_h10
theorem k0_off1484_inb : ∀ (i : grid0.Coords) (v48 : BitVec 32) (v978 : BitVec 32) (k0_hw572 : k0_chk572 i v48 v978), ∀ (k0_h10 : k0_cond10 i v48 = 1#1), ∀ a, (k0_off1484 v978) a + S8x128.size a ≤ S65536x128.size a := fun i v48 v978 k0_hw572 k0_h10 => k0_hw572.2.1 k0_h10
theorem k0_off1485_inb : ∀ (i : grid0.Coords) (v48 : BitVec 32) (v978 : BitVec 32) (k0_hw572 : k0_chk572 i v48 v978), ∀ (k0_h10 : k0_cond10 i v48 = 1#1), ∀ a, (k0_off1485 v978) a + S1x128.size a ≤ S8192x128.size a := fun i v48 v978 k0_hw572 k0_h10 => k0_hw572.2.2 k0_h10

def k0_off1486 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c54_i32 : BitVec 32 := 54#32
  let v993 : BitVec 32 := Scalar.addi v74 c54_i32
  let v994 : Index := Scalar.indexCast v993
  ![v994.toNat]
def k0_mult567 (v995 : BitVec 32) : BitVec 32 :=
  let c3_i32_415 : BitVec 32 := 3#32
  let v996 : BitVec 32 := Scalar.shrsi v995 c3_i32_415
  let c8191_i32_416 : BitVec 32 := 8191#32
  let v997 : BitVec 32 := Scalar.andi v996 c8191_i32_416
  let c8_i32_417 : BitVec 32 := 8#32
  let v998 : BitVec 32 := Scalar.muli v997 c8_i32_417
  v998

def k0_off1487 (v995 : BitVec 32) : Fin 2 → Nat :=
  let c3_i32_415 : BitVec 32 := 3#32
  let v996 : BitVec 32 := Scalar.shrsi v995 c3_i32_415
  let c8191_i32_416 : BitVec 32 := 8191#32
  let v997 : BitVec 32 := Scalar.andi v996 c8191_i32_416
  let c8_i32_417 : BitVec 32 := 8#32
  let v998 : BitVec 32 := Scalar.muli v997 c8_i32_417
  let v999 : BitVec 32 := v998
  let v1000 : Index := Scalar.indexCast v999
  let c0_418 : Index := 0#32
  ![v1000.toNat, 0]
def k0_off1488 (v995 : BitVec 32) : Fin 2 → Nat :=
  let c3_i32_415 : BitVec 32 := 3#32
  let v996 : BitVec 32 := Scalar.shrsi v995 c3_i32_415
  let c8191_i32_416 : BitVec 32 := 8191#32
  let v997 : BitVec 32 := Scalar.andi v996 c8191_i32_416
  let v1005 : Index := Scalar.indexCast v997
  let c0_420 : Index := 0#32
  ![v1005.toNat, 0]

def k0_chk573 (i : grid0.Coords) (v48 : BitVec 32) (v995 : BitVec 32) : Prop :=
  (∀ (k0_h10 : k0_cond10 i v48 = 1#1), 8 ∣ (k0_mult567 v995).toNat) ∧
  (∀ (k0_h10 : k0_cond10 i v48 = 1#1), ∀ a, (k0_off1487 v995) a + S8x128.size a ≤ S65536x128.size a) ∧
  (∀ (k0_h10 : k0_cond10 i v48 = 1#1), ∀ a, (k0_off1488 v995) a + S1x128.size a ≤ S8192x128.size a)
theorem k0_mult567_dvd : ∀ (i : grid0.Coords) (v48 : BitVec 32) (v995 : BitVec 32) (k0_hw573 : k0_chk573 i v48 v995), ∀ (k0_h10 : k0_cond10 i v48 = 1#1), 8 ∣ (k0_mult567 v995).toNat := fun i v48 v995 k0_hw573 k0_h10 => k0_hw573.1 k0_h10
theorem k0_off1487_inb : ∀ (i : grid0.Coords) (v48 : BitVec 32) (v995 : BitVec 32) (k0_hw573 : k0_chk573 i v48 v995), ∀ (k0_h10 : k0_cond10 i v48 = 1#1), ∀ a, (k0_off1487 v995) a + S8x128.size a ≤ S65536x128.size a := fun i v48 v995 k0_hw573 k0_h10 => k0_hw573.2.1 k0_h10
theorem k0_off1488_inb : ∀ (i : grid0.Coords) (v48 : BitVec 32) (v995 : BitVec 32) (k0_hw573 : k0_chk573 i v48 v995), ∀ (k0_h10 : k0_cond10 i v48 = 1#1), ∀ a, (k0_off1488 v995) a + S1x128.size a ≤ S8192x128.size a := fun i v48 v995 k0_hw573 k0_h10 => k0_hw573.2.2 k0_h10

def k0_off1489 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c55_i32 : BitVec 32 := 55#32
  let v1010 : BitVec 32 := Scalar.addi v74 c55_i32
  let v1011 : Index := Scalar.indexCast v1010
  ![v1011.toNat]
def k0_mult568 (v1012 : BitVec 32) : BitVec 32 :=
  let c3_i32_422 : BitVec 32 := 3#32
  let v1013 : BitVec 32 := Scalar.shrsi v1012 c3_i32_422
  let c8191_i32_423 : BitVec 32 := 8191#32
  let v1014 : BitVec 32 := Scalar.andi v1013 c8191_i32_423
  let c8_i32_424 : BitVec 32 := 8#32
  let v1015 : BitVec 32 := Scalar.muli v1014 c8_i32_424
  v1015

def k0_off1490 (v1012 : BitVec 32) : Fin 2 → Nat :=
  let c3_i32_422 : BitVec 32 := 3#32
  let v1013 : BitVec 32 := Scalar.shrsi v1012 c3_i32_422
  let c8191_i32_423 : BitVec 32 := 8191#32
  let v1014 : BitVec 32 := Scalar.andi v1013 c8191_i32_423
  let c8_i32_424 : BitVec 32 := 8#32
  let v1015 : BitVec 32 := Scalar.muli v1014 c8_i32_424
  let v1016 : BitVec 32 := v1015
  let v1017 : Index := Scalar.indexCast v1016
  let c0_425 : Index := 0#32
  ![v1017.toNat, 0]
def k0_off1491 (v1012 : BitVec 32) : Fin 2 → Nat :=
  let c3_i32_422 : BitVec 32 := 3#32
  let v1013 : BitVec 32 := Scalar.shrsi v1012 c3_i32_422
  let c8191_i32_423 : BitVec 32 := 8191#32
  let v1014 : BitVec 32 := Scalar.andi v1013 c8191_i32_423
  let v1022 : Index := Scalar.indexCast v1014
  let c0_427 : Index := 0#32
  ![v1022.toNat, 0]

def k0_chk574 (i : grid0.Coords) (v48 : BitVec 32) (v1012 : BitVec 32) : Prop :=
  (∀ (k0_h10 : k0_cond10 i v48 = 1#1), 8 ∣ (k0_mult568 v1012).toNat) ∧
  (∀ (k0_h10 : k0_cond10 i v48 = 1#1), ∀ a, (k0_off1490 v1012) a + S8x128.size a ≤ S65536x128.size a) ∧
  (∀ (k0_h10 : k0_cond10 i v48 = 1#1), ∀ a, (k0_off1491 v1012) a + S1x128.size a ≤ S8192x128.size a)
theorem k0_mult568_dvd : ∀ (i : grid0.Coords) (v48 : BitVec 32) (v1012 : BitVec 32) (k0_hw574 : k0_chk574 i v48 v1012), ∀ (k0_h10 : k0_cond10 i v48 = 1#1), 8 ∣ (k0_mult568 v1012).toNat := fun i v48 v1012 k0_hw574 k0_h10 => k0_hw574.1 k0_h10
theorem k0_off1490_inb : ∀ (i : grid0.Coords) (v48 : BitVec 32) (v1012 : BitVec 32) (k0_hw574 : k0_chk574 i v48 v1012), ∀ (k0_h10 : k0_cond10 i v48 = 1#1), ∀ a, (k0_off1490 v1012) a + S8x128.size a ≤ S65536x128.size a := fun i v48 v1012 k0_hw574 k0_h10 => k0_hw574.2.1 k0_h10
theorem k0_off1491_inb : ∀ (i : grid0.Coords) (v48 : BitVec 32) (v1012 : BitVec 32) (k0_hw574 : k0_chk574 i v48 v1012), ∀ (k0_h10 : k0_cond10 i v48 = 1#1), ∀ a, (k0_off1491 v1012) a + S1x128.size a ≤ S8192x128.size a := fun i v48 v1012 k0_hw574 k0_h10 => k0_hw574.2.2 k0_h10

def k0_off1492 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c56_i32 : BitVec 32 := 56#32
  let v1027 : BitVec 32 := Scalar.addi v74 c56_i32
  let v1028 : Index := Scalar.indexCast v1027
  ![v1028.toNat]
def k0_mult569 (v1029 : BitVec 32) : BitVec 32 :=
  let c3_i32_429 : BitVec 32 := 3#32
  let v1030 : BitVec 32 := Scalar.shrsi v1029 c3_i32_429
  let c8191_i32_430 : BitVec 32 := 8191#32
  let v1031 : BitVec 32 := Scalar.andi v1030 c8191_i32_430
  let c8_i32_431 : BitVec 32 := 8#32
  let v1032 : BitVec 32 := Scalar.muli v1031 c8_i32_431
  v1032

def k0_off1493 (v1029 : BitVec 32) : Fin 2 → Nat :=
  let c3_i32_429 : BitVec 32 := 3#32
  let v1030 : BitVec 32 := Scalar.shrsi v1029 c3_i32_429
  let c8191_i32_430 : BitVec 32 := 8191#32
  let v1031 : BitVec 32 := Scalar.andi v1030 c8191_i32_430
  let c8_i32_431 : BitVec 32 := 8#32
  let v1032 : BitVec 32 := Scalar.muli v1031 c8_i32_431
  let v1033 : BitVec 32 := v1032
  let v1034 : Index := Scalar.indexCast v1033
  let c0_432 : Index := 0#32
  ![v1034.toNat, 0]
def k0_off1494 (v1029 : BitVec 32) : Fin 2 → Nat :=
  let c3_i32_429 : BitVec 32 := 3#32
  let v1030 : BitVec 32 := Scalar.shrsi v1029 c3_i32_429
  let c8191_i32_430 : BitVec 32 := 8191#32
  let v1031 : BitVec 32 := Scalar.andi v1030 c8191_i32_430
  let v1039 : Index := Scalar.indexCast v1031
  let c0_434 : Index := 0#32
  ![v1039.toNat, 0]

def k0_chk575 (i : grid0.Coords) (v48 : BitVec 32) (v1029 : BitVec 32) : Prop :=
  (∀ (k0_h10 : k0_cond10 i v48 = 1#1), 8 ∣ (k0_mult569 v1029).toNat) ∧
  (∀ (k0_h10 : k0_cond10 i v48 = 1#1), ∀ a, (k0_off1493 v1029) a + S8x128.size a ≤ S65536x128.size a) ∧
  (∀ (k0_h10 : k0_cond10 i v48 = 1#1), ∀ a, (k0_off1494 v1029) a + S1x128.size a ≤ S8192x128.size a)
theorem k0_mult569_dvd : ∀ (i : grid0.Coords) (v48 : BitVec 32) (v1029 : BitVec 32) (k0_hw575 : k0_chk575 i v48 v1029), ∀ (k0_h10 : k0_cond10 i v48 = 1#1), 8 ∣ (k0_mult569 v1029).toNat := fun i v48 v1029 k0_hw575 k0_h10 => k0_hw575.1 k0_h10
theorem k0_off1493_inb : ∀ (i : grid0.Coords) (v48 : BitVec 32) (v1029 : BitVec 32) (k0_hw575 : k0_chk575 i v48 v1029), ∀ (k0_h10 : k0_cond10 i v48 = 1#1), ∀ a, (k0_off1493 v1029) a + S8x128.size a ≤ S65536x128.size a := fun i v48 v1029 k0_hw575 k0_h10 => k0_hw575.2.1 k0_h10
theorem k0_off1494_inb : ∀ (i : grid0.Coords) (v48 : BitVec 32) (v1029 : BitVec 32) (k0_hw575 : k0_chk575 i v48 v1029), ∀ (k0_h10 : k0_cond10 i v48 = 1#1), ∀ a, (k0_off1494 v1029) a + S1x128.size a ≤ S8192x128.size a := fun i v48 v1029 k0_hw575 k0_h10 => k0_hw575.2.2 k0_h10

def k0_off1495 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c57_i32 : BitVec 32 := 57#32
  let v1044 : BitVec 32 := Scalar.addi v74 c57_i32
  let v1045 : Index := Scalar.indexCast v1044
  ![v1045.toNat]
def k0_mult570 (v1046 : BitVec 32) : BitVec 32 :=
  let c3_i32_437 : BitVec 32 := 3#32
  let v1047 : BitVec 32 := Scalar.shrsi v1046 c3_i32_437
  let c8191_i32_438 : BitVec 32 := 8191#32
  let v1048 : BitVec 32 := Scalar.andi v1047 c8191_i32_438
  let c8_i32_439 : BitVec 32 := 8#32
  let v1049 : BitVec 32 := Scalar.muli v1048 c8_i32_439
  v1049

def k0_off1496 (v1046 : BitVec 32) : Fin 2 → Nat :=
  let c3_i32_437 : BitVec 32 := 3#32
  let v1047 : BitVec 32 := Scalar.shrsi v1046 c3_i32_437
  let c8191_i32_438 : BitVec 32 := 8191#32
  let v1048 : BitVec 32 := Scalar.andi v1047 c8191_i32_438
  let c8_i32_439 : BitVec 32 := 8#32
  let v1049 : BitVec 32 := Scalar.muli v1048 c8_i32_439
  let v1050 : BitVec 32 := v1049
  let v1051 : Index := Scalar.indexCast v1050
  let c0_440 : Index := 0#32
  ![v1051.toNat, 0]
def k0_off1497 (v1046 : BitVec 32) : Fin 2 → Nat :=
  let c3_i32_437 : BitVec 32 := 3#32
  let v1047 : BitVec 32 := Scalar.shrsi v1046 c3_i32_437
  let c8191_i32_438 : BitVec 32 := 8191#32
  let v1048 : BitVec 32 := Scalar.andi v1047 c8191_i32_438
  let v1056 : Index := Scalar.indexCast v1048
  let c0_442 : Index := 0#32
  ![v1056.toNat, 0]

def k0_chk576 (i : grid0.Coords) (v48 : BitVec 32) (v1046 : BitVec 32) : Prop :=
  (∀ (k0_h10 : k0_cond10 i v48 = 1#1), 8 ∣ (k0_mult570 v1046).toNat) ∧
  (∀ (k0_h10 : k0_cond10 i v48 = 1#1), ∀ a, (k0_off1496 v1046) a + S8x128.size a ≤ S65536x128.size a) ∧
  (∀ (k0_h10 : k0_cond10 i v48 = 1#1), ∀ a, (k0_off1497 v1046) a + S1x128.size a ≤ S8192x128.size a)
theorem k0_mult570_dvd : ∀ (i : grid0.Coords) (v48 : BitVec 32) (v1046 : BitVec 32) (k0_hw576 : k0_chk576 i v48 v1046), ∀ (k0_h10 : k0_cond10 i v48 = 1#1), 8 ∣ (k0_mult570 v1046).toNat := fun i v48 v1046 k0_hw576 k0_h10 => k0_hw576.1 k0_h10
theorem k0_off1496_inb : ∀ (i : grid0.Coords) (v48 : BitVec 32) (v1046 : BitVec 32) (k0_hw576 : k0_chk576 i v48 v1046), ∀ (k0_h10 : k0_cond10 i v48 = 1#1), ∀ a, (k0_off1496 v1046) a + S8x128.size a ≤ S65536x128.size a := fun i v48 v1046 k0_hw576 k0_h10 => k0_hw576.2.1 k0_h10
theorem k0_off1497_inb : ∀ (i : grid0.Coords) (v48 : BitVec 32) (v1046 : BitVec 32) (k0_hw576 : k0_chk576 i v48 v1046), ∀ (k0_h10 : k0_cond10 i v48 = 1#1), ∀ a, (k0_off1497 v1046) a + S1x128.size a ≤ S8192x128.size a := fun i v48 v1046 k0_hw576 k0_h10 => k0_hw576.2.2 k0_h10

def k0_off1498 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c58_i32 : BitVec 32 := 58#32
  let v1061 : BitVec 32 := Scalar.addi v74 c58_i32
  let v1062 : Index := Scalar.indexCast v1061
  ![v1062.toNat]
def k0_mult571 (v1063 : BitVec 32) : BitVec 32 :=
  let c3_i32_444 : BitVec 32 := 3#32
  let v1064 : BitVec 32 := Scalar.shrsi v1063 c3_i32_444
  let c8191_i32_445 : BitVec 32 := 8191#32
  let v1065 : BitVec 32 := Scalar.andi v1064 c8191_i32_445
  let c8_i32_446 : BitVec 32 := 8#32
  let v1066 : BitVec 32 := Scalar.muli v1065 c8_i32_446
  v1066

def k0_off1499 (v1063 : BitVec 32) : Fin 2 → Nat :=
  let c3_i32_444 : BitVec 32 := 3#32
  let v1064 : BitVec 32 := Scalar.shrsi v1063 c3_i32_444
  let c8191_i32_445 : BitVec 32 := 8191#32
  let v1065 : BitVec 32 := Scalar.andi v1064 c8191_i32_445
  let c8_i32_446 : BitVec 32 := 8#32
  let v1066 : BitVec 32 := Scalar.muli v1065 c8_i32_446
  let v1067 : BitVec 32 := v1066
  let v1068 : Index := Scalar.indexCast v1067
  let c0_447 : Index := 0#32
  ![v1068.toNat, 0]
def k0_off1500 (v1063 : BitVec 32) : Fin 2 → Nat :=
  let c3_i32_444 : BitVec 32 := 3#32
  let v1064 : BitVec 32 := Scalar.shrsi v1063 c3_i32_444
  let c8191_i32_445 : BitVec 32 := 8191#32
  let v1065 : BitVec 32 := Scalar.andi v1064 c8191_i32_445
  let v1073 : Index := Scalar.indexCast v1065
  let c0_449 : Index := 0#32
  ![v1073.toNat, 0]

def k0_chk577 (i : grid0.Coords) (v48 : BitVec 32) (v1063 : BitVec 32) : Prop :=
  (∀ (k0_h10 : k0_cond10 i v48 = 1#1), 8 ∣ (k0_mult571 v1063).toNat) ∧
  (∀ (k0_h10 : k0_cond10 i v48 = 1#1), ∀ a, (k0_off1499 v1063) a + S8x128.size a ≤ S65536x128.size a) ∧
  (∀ (k0_h10 : k0_cond10 i v48 = 1#1), ∀ a, (k0_off1500 v1063) a + S1x128.size a ≤ S8192x128.size a)
theorem k0_mult571_dvd : ∀ (i : grid0.Coords) (v48 : BitVec 32) (v1063 : BitVec 32) (k0_hw577 : k0_chk577 i v48 v1063), ∀ (k0_h10 : k0_cond10 i v48 = 1#1), 8 ∣ (k0_mult571 v1063).toNat := fun i v48 v1063 k0_hw577 k0_h10 => k0_hw577.1 k0_h10
theorem k0_off1499_inb : ∀ (i : grid0.Coords) (v48 : BitVec 32) (v1063 : BitVec 32) (k0_hw577 : k0_chk577 i v48 v1063), ∀ (k0_h10 : k0_cond10 i v48 = 1#1), ∀ a, (k0_off1499 v1063) a + S8x128.size a ≤ S65536x128.size a := fun i v48 v1063 k0_hw577 k0_h10 => k0_hw577.2.1 k0_h10
theorem k0_off1500_inb : ∀ (i : grid0.Coords) (v48 : BitVec 32) (v1063 : BitVec 32) (k0_hw577 : k0_chk577 i v48 v1063), ∀ (k0_h10 : k0_cond10 i v48 = 1#1), ∀ a, (k0_off1500 v1063) a + S1x128.size a ≤ S8192x128.size a := fun i v48 v1063 k0_hw577 k0_h10 => k0_hw577.2.2 k0_h10

def k0_off1501 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c59_i32 : BitVec 32 := 59#32
  let v1078 : BitVec 32 := Scalar.addi v74 c59_i32
  let v1079 : Index := Scalar.indexCast v1078
  ![v1079.toNat]
def k0_mult572 (v1080 : BitVec 32) : BitVec 32 :=
  let c3_i32_451 : BitVec 32 := 3#32
  let v1081 : BitVec 32 := Scalar.shrsi v1080 c3_i32_451
  let c8191_i32_452 : BitVec 32 := 8191#32
  let v1082 : BitVec 32 := Scalar.andi v1081 c8191_i32_452
  let c8_i32_453 : BitVec 32 := 8#32
  let v1083 : BitVec 32 := Scalar.muli v1082 c8_i32_453
  v1083

def k0_off1502 (v1080 : BitVec 32) : Fin 2 → Nat :=
  let c3_i32_451 : BitVec 32 := 3#32
  let v1081 : BitVec 32 := Scalar.shrsi v1080 c3_i32_451
  let c8191_i32_452 : BitVec 32 := 8191#32
  let v1082 : BitVec 32 := Scalar.andi v1081 c8191_i32_452
  let c8_i32_453 : BitVec 32 := 8#32
  let v1083 : BitVec 32 := Scalar.muli v1082 c8_i32_453
  let v1084 : BitVec 32 := v1083
  let v1085 : Index := Scalar.indexCast v1084
  let c0_454 : Index := 0#32
  ![v1085.toNat, 0]
def k0_off1503 (v1080 : BitVec 32) : Fin 2 → Nat :=
  let c3_i32_451 : BitVec 32 := 3#32
  let v1081 : BitVec 32 := Scalar.shrsi v1080 c3_i32_451
  let c8191_i32_452 : BitVec 32 := 8191#32
  let v1082 : BitVec 32 := Scalar.andi v1081 c8191_i32_452
  let v1090 : Index := Scalar.indexCast v1082
  let c0_456 : Index := 0#32
  ![v1090.toNat, 0]

def k0_chk578 (i : grid0.Coords) (v48 : BitVec 32) (v1080 : BitVec 32) : Prop :=
  (∀ (k0_h10 : k0_cond10 i v48 = 1#1), 8 ∣ (k0_mult572 v1080).toNat) ∧
  (∀ (k0_h10 : k0_cond10 i v48 = 1#1), ∀ a, (k0_off1502 v1080) a + S8x128.size a ≤ S65536x128.size a) ∧
  (∀ (k0_h10 : k0_cond10 i v48 = 1#1), ∀ a, (k0_off1503 v1080) a + S1x128.size a ≤ S8192x128.size a)
theorem k0_mult572_dvd : ∀ (i : grid0.Coords) (v48 : BitVec 32) (v1080 : BitVec 32) (k0_hw578 : k0_chk578 i v48 v1080), ∀ (k0_h10 : k0_cond10 i v48 = 1#1), 8 ∣ (k0_mult572 v1080).toNat := fun i v48 v1080 k0_hw578 k0_h10 => k0_hw578.1 k0_h10
theorem k0_off1502_inb : ∀ (i : grid0.Coords) (v48 : BitVec 32) (v1080 : BitVec 32) (k0_hw578 : k0_chk578 i v48 v1080), ∀ (k0_h10 : k0_cond10 i v48 = 1#1), ∀ a, (k0_off1502 v1080) a + S8x128.size a ≤ S65536x128.size a := fun i v48 v1080 k0_hw578 k0_h10 => k0_hw578.2.1 k0_h10
theorem k0_off1503_inb : ∀ (i : grid0.Coords) (v48 : BitVec 32) (v1080 : BitVec 32) (k0_hw578 : k0_chk578 i v48 v1080), ∀ (k0_h10 : k0_cond10 i v48 = 1#1), ∀ a, (k0_off1503 v1080) a + S1x128.size a ≤ S8192x128.size a := fun i v48 v1080 k0_hw578 k0_h10 => k0_hw578.2.2 k0_h10

def k0_off1504 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c60_i32 : BitVec 32 := 60#32
  let v1095 : BitVec 32 := Scalar.addi v74 c60_i32
  let v1096 : Index := Scalar.indexCast v1095
  ![v1096.toNat]
def k0_mult573 (v1097 : BitVec 32) : BitVec 32 :=
  let c3_i32_458 : BitVec 32 := 3#32
  let v1098 : BitVec 32 := Scalar.shrsi v1097 c3_i32_458
  let c8191_i32_459 : BitVec 32 := 8191#32
  let v1099 : BitVec 32 := Scalar.andi v1098 c8191_i32_459
  let c8_i32_460 : BitVec 32 := 8#32
  let v1100 : BitVec 32 := Scalar.muli v1099 c8_i32_460
  v1100

def k0_off1505 (v1097 : BitVec 32) : Fin 2 → Nat :=
  let c3_i32_458 : BitVec 32 := 3#32
  let v1098 : BitVec 32 := Scalar.shrsi v1097 c3_i32_458
  let c8191_i32_459 : BitVec 32 := 8191#32
  let v1099 : BitVec 32 := Scalar.andi v1098 c8191_i32_459
  let c8_i32_460 : BitVec 32 := 8#32
  let v1100 : BitVec 32 := Scalar.muli v1099 c8_i32_460
  let v1101 : BitVec 32 := v1100
  let v1102 : Index := Scalar.indexCast v1101
  let c0_461 : Index := 0#32
  ![v1102.toNat, 0]
def k0_off1506 (v1097 : BitVec 32) : Fin 2 → Nat :=
  let c3_i32_458 : BitVec 32 := 3#32
  let v1098 : BitVec 32 := Scalar.shrsi v1097 c3_i32_458
  let c8191_i32_459 : BitVec 32 := 8191#32
  let v1099 : BitVec 32 := Scalar.andi v1098 c8191_i32_459
  let v1107 : Index := Scalar.indexCast v1099
  let c0_463 : Index := 0#32
  ![v1107.toNat, 0]

def k0_chk579 (i : grid0.Coords) (v48 : BitVec 32) (v1097 : BitVec 32) : Prop :=
  (∀ (k0_h10 : k0_cond10 i v48 = 1#1), 8 ∣ (k0_mult573 v1097).toNat) ∧
  (∀ (k0_h10 : k0_cond10 i v48 = 1#1), ∀ a, (k0_off1505 v1097) a + S8x128.size a ≤ S65536x128.size a) ∧
  (∀ (k0_h10 : k0_cond10 i v48 = 1#1), ∀ a, (k0_off1506 v1097) a + S1x128.size a ≤ S8192x128.size a)
theorem k0_mult573_dvd : ∀ (i : grid0.Coords) (v48 : BitVec 32) (v1097 : BitVec 32) (k0_hw579 : k0_chk579 i v48 v1097), ∀ (k0_h10 : k0_cond10 i v48 = 1#1), 8 ∣ (k0_mult573 v1097).toNat := fun i v48 v1097 k0_hw579 k0_h10 => k0_hw579.1 k0_h10
theorem k0_off1505_inb : ∀ (i : grid0.Coords) (v48 : BitVec 32) (v1097 : BitVec 32) (k0_hw579 : k0_chk579 i v48 v1097), ∀ (k0_h10 : k0_cond10 i v48 = 1#1), ∀ a, (k0_off1505 v1097) a + S8x128.size a ≤ S65536x128.size a := fun i v48 v1097 k0_hw579 k0_h10 => k0_hw579.2.1 k0_h10
theorem k0_off1506_inb : ∀ (i : grid0.Coords) (v48 : BitVec 32) (v1097 : BitVec 32) (k0_hw579 : k0_chk579 i v48 v1097), ∀ (k0_h10 : k0_cond10 i v48 = 1#1), ∀ a, (k0_off1506 v1097) a + S1x128.size a ≤ S8192x128.size a := fun i v48 v1097 k0_hw579 k0_h10 => k0_hw579.2.2 k0_h10

def k0_off1507 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c61_i32 : BitVec 32 := 61#32
  let v1112 : BitVec 32 := Scalar.addi v74 c61_i32
  let v1113 : Index := Scalar.indexCast v1112
  ![v1113.toNat]
def k0_mult574 (v1114 : BitVec 32) : BitVec 32 :=
  let c3_i32_465 : BitVec 32 := 3#32
  let v1115 : BitVec 32 := Scalar.shrsi v1114 c3_i32_465
  let c8191_i32_466 : BitVec 32 := 8191#32
  let v1116 : BitVec 32 := Scalar.andi v1115 c8191_i32_466
  let c8_i32_467 : BitVec 32 := 8#32
  let v1117 : BitVec 32 := Scalar.muli v1116 c8_i32_467
  v1117

def k0_off1508 (v1114 : BitVec 32) : Fin 2 → Nat :=
  let c3_i32_465 : BitVec 32 := 3#32
  let v1115 : BitVec 32 := Scalar.shrsi v1114 c3_i32_465
  let c8191_i32_466 : BitVec 32 := 8191#32
  let v1116 : BitVec 32 := Scalar.andi v1115 c8191_i32_466
  let c8_i32_467 : BitVec 32 := 8#32
  let v1117 : BitVec 32 := Scalar.muli v1116 c8_i32_467
  let v1118 : BitVec 32 := v1117
  let v1119 : Index := Scalar.indexCast v1118
  let c0_468 : Index := 0#32
  ![v1119.toNat, 0]
def k0_off1509 (v1114 : BitVec 32) : Fin 2 → Nat :=
  let c3_i32_465 : BitVec 32 := 3#32
  let v1115 : BitVec 32 := Scalar.shrsi v1114 c3_i32_465
  let c8191_i32_466 : BitVec 32 := 8191#32
  let v1116 : BitVec 32 := Scalar.andi v1115 c8191_i32_466
  let v1124 : Index := Scalar.indexCast v1116
  let c0_470 : Index := 0#32
  ![v1124.toNat, 0]

def k0_chk580 (i : grid0.Coords) (v48 : BitVec 32) (v1114 : BitVec 32) : Prop :=
  (∀ (k0_h10 : k0_cond10 i v48 = 1#1), 8 ∣ (k0_mult574 v1114).toNat) ∧
  (∀ (k0_h10 : k0_cond10 i v48 = 1#1), ∀ a, (k0_off1508 v1114) a + S8x128.size a ≤ S65536x128.size a) ∧
  (∀ (k0_h10 : k0_cond10 i v48 = 1#1), ∀ a, (k0_off1509 v1114) a + S1x128.size a ≤ S8192x128.size a)
theorem k0_mult574_dvd : ∀ (i : grid0.Coords) (v48 : BitVec 32) (v1114 : BitVec 32) (k0_hw580 : k0_chk580 i v48 v1114), ∀ (k0_h10 : k0_cond10 i v48 = 1#1), 8 ∣ (k0_mult574 v1114).toNat := fun i v48 v1114 k0_hw580 k0_h10 => k0_hw580.1 k0_h10
theorem k0_off1508_inb : ∀ (i : grid0.Coords) (v48 : BitVec 32) (v1114 : BitVec 32) (k0_hw580 : k0_chk580 i v48 v1114), ∀ (k0_h10 : k0_cond10 i v48 = 1#1), ∀ a, (k0_off1508 v1114) a + S8x128.size a ≤ S65536x128.size a := fun i v48 v1114 k0_hw580 k0_h10 => k0_hw580.2.1 k0_h10
theorem k0_off1509_inb : ∀ (i : grid0.Coords) (v48 : BitVec 32) (v1114 : BitVec 32) (k0_hw580 : k0_chk580 i v48 v1114), ∀ (k0_h10 : k0_cond10 i v48 = 1#1), ∀ a, (k0_off1509 v1114) a + S1x128.size a ≤ S8192x128.size a := fun i v48 v1114 k0_hw580 k0_h10 => k0_hw580.2.2 k0_h10

def k0_off1510 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c62_i32 : BitVec 32 := 62#32
  let v1129 : BitVec 32 := Scalar.addi v74 c62_i32
  let v1130 : Index := Scalar.indexCast v1129
  ![v1130.toNat]
def k0_mult575 (v1131 : BitVec 32) : BitVec 32 :=
  let c3_i32_472 : BitVec 32 := 3#32
  let v1132 : BitVec 32 := Scalar.shrsi v1131 c3_i32_472
  let c8191_i32_473 : BitVec 32 := 8191#32
  let v1133 : BitVec 32 := Scalar.andi v1132 c8191_i32_473
  let c8_i32_474 : BitVec 32 := 8#32
  let v1134 : BitVec 32 := Scalar.muli v1133 c8_i32_474
  v1134

def k0_off1511 (v1131 : BitVec 32) : Fin 2 → Nat :=
  let c3_i32_472 : BitVec 32 := 3#32
  let v1132 : BitVec 32 := Scalar.shrsi v1131 c3_i32_472
  let c8191_i32_473 : BitVec 32 := 8191#32
  let v1133 : BitVec 32 := Scalar.andi v1132 c8191_i32_473
  let c8_i32_474 : BitVec 32 := 8#32
  let v1134 : BitVec 32 := Scalar.muli v1133 c8_i32_474
  let v1135 : BitVec 32 := v1134
  let v1136 : Index := Scalar.indexCast v1135
  let c0_475 : Index := 0#32
  ![v1136.toNat, 0]
def k0_off1512 (v1131 : BitVec 32) : Fin 2 → Nat :=
  let c3_i32_472 : BitVec 32 := 3#32
  let v1132 : BitVec 32 := Scalar.shrsi v1131 c3_i32_472
  let c8191_i32_473 : BitVec 32 := 8191#32
  let v1133 : BitVec 32 := Scalar.andi v1132 c8191_i32_473
  let v1141 : Index := Scalar.indexCast v1133
  let c0_477 : Index := 0#32
  ![v1141.toNat, 0]

def k0_chk581 (i : grid0.Coords) (v48 : BitVec 32) (v1131 : BitVec 32) : Prop :=
  (∀ (k0_h10 : k0_cond10 i v48 = 1#1), 8 ∣ (k0_mult575 v1131).toNat) ∧
  (∀ (k0_h10 : k0_cond10 i v48 = 1#1), ∀ a, (k0_off1511 v1131) a + S8x128.size a ≤ S65536x128.size a) ∧
  (∀ (k0_h10 : k0_cond10 i v48 = 1#1), ∀ a, (k0_off1512 v1131) a + S1x128.size a ≤ S8192x128.size a)
theorem k0_mult575_dvd : ∀ (i : grid0.Coords) (v48 : BitVec 32) (v1131 : BitVec 32) (k0_hw581 : k0_chk581 i v48 v1131), ∀ (k0_h10 : k0_cond10 i v48 = 1#1), 8 ∣ (k0_mult575 v1131).toNat := fun i v48 v1131 k0_hw581 k0_h10 => k0_hw581.1 k0_h10
theorem k0_off1511_inb : ∀ (i : grid0.Coords) (v48 : BitVec 32) (v1131 : BitVec 32) (k0_hw581 : k0_chk581 i v48 v1131), ∀ (k0_h10 : k0_cond10 i v48 = 1#1), ∀ a, (k0_off1511 v1131) a + S8x128.size a ≤ S65536x128.size a := fun i v48 v1131 k0_hw581 k0_h10 => k0_hw581.2.1 k0_h10
theorem k0_off1512_inb : ∀ (i : grid0.Coords) (v48 : BitVec 32) (v1131 : BitVec 32) (k0_hw581 : k0_chk581 i v48 v1131), ∀ (k0_h10 : k0_cond10 i v48 = 1#1), ∀ a, (k0_off1512 v1131) a + S1x128.size a ≤ S8192x128.size a := fun i v48 v1131 k0_hw581 k0_h10 => k0_hw581.2.2 k0_h10

def k0_off1513 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c63_i32 : BitVec 32 := 63#32
  let v1146 : BitVec 32 := Scalar.addi v74 c63_i32
  let v1147 : Index := Scalar.indexCast v1146
  ![v1147.toNat]
def k0_mult576 (v1148 : BitVec 32) : BitVec 32 :=
  let c3_i32_479 : BitVec 32 := 3#32
  let v1149 : BitVec 32 := Scalar.shrsi v1148 c3_i32_479
  let c8191_i32_480 : BitVec 32 := 8191#32
  let v1150 : BitVec 32 := Scalar.andi v1149 c8191_i32_480
  let c8_i32_481 : BitVec 32 := 8#32
  let v1151 : BitVec 32 := Scalar.muli v1150 c8_i32_481
  v1151

def k0_off1514 (v1148 : BitVec 32) : Fin 2 → Nat :=
  let c3_i32_479 : BitVec 32 := 3#32
  let v1149 : BitVec 32 := Scalar.shrsi v1148 c3_i32_479
  let c8191_i32_480 : BitVec 32 := 8191#32
  let v1150 : BitVec 32 := Scalar.andi v1149 c8191_i32_480
  let c8_i32_481 : BitVec 32 := 8#32
  let v1151 : BitVec 32 := Scalar.muli v1150 c8_i32_481
  let v1152 : BitVec 32 := v1151
  let v1153 : Index := Scalar.indexCast v1152
  let c0_482 : Index := 0#32
  ![v1153.toNat, 0]
def k0_off1515 (v1148 : BitVec 32) : Fin 2 → Nat :=
  let c3_i32_479 : BitVec 32 := 3#32
  let v1149 : BitVec 32 := Scalar.shrsi v1148 c3_i32_479
  let c8191_i32_480 : BitVec 32 := 8191#32
  let v1150 : BitVec 32 := Scalar.andi v1149 c8191_i32_480
  let v1158 : Index := Scalar.indexCast v1150
  let c0_484 : Index := 0#32
  ![v1158.toNat, 0]

def k0_chk582 (i : grid0.Coords) (v48 : BitVec 32) (v1148 : BitVec 32) : Prop :=
  (∀ (k0_h10 : k0_cond10 i v48 = 1#1), 8 ∣ (k0_mult576 v1148).toNat) ∧
  (∀ (k0_h10 : k0_cond10 i v48 = 1#1), ∀ a, (k0_off1514 v1148) a + S8x128.size a ≤ S65536x128.size a) ∧
  (∀ (k0_h10 : k0_cond10 i v48 = 1#1), ∀ a, (k0_off1515 v1148) a + S1x128.size a ≤ S8192x128.size a)
theorem k0_mult576_dvd : ∀ (i : grid0.Coords) (v48 : BitVec 32) (v1148 : BitVec 32) (k0_hw582 : k0_chk582 i v48 v1148), ∀ (k0_h10 : k0_cond10 i v48 = 1#1), 8 ∣ (k0_mult576 v1148).toNat := fun i v48 v1148 k0_hw582 k0_h10 => k0_hw582.1 k0_h10
theorem k0_off1514_inb : ∀ (i : grid0.Coords) (v48 : BitVec 32) (v1148 : BitVec 32) (k0_hw582 : k0_chk582 i v48 v1148), ∀ (k0_h10 : k0_cond10 i v48 = 1#1), ∀ a, (k0_off1514 v1148) a + S8x128.size a ≤ S65536x128.size a := fun i v48 v1148 k0_hw582 k0_h10 => k0_hw582.2.1 k0_h10
theorem k0_off1515_inb : ∀ (i : grid0.Coords) (v48 : BitVec 32) (v1148 : BitVec 32) (k0_hw582 : k0_chk582 i v48 v1148), ∀ (k0_h10 : k0_cond10 i v48 = 1#1), ∀ a, (k0_off1515 v1148) a + S1x128.size a ≤ S8192x128.size a := fun i v48 v1148 k0_hw582 k0_h10 => k0_hw582.2.2 k0_h10

def k0_off1516 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c64_i32 : BitVec 32 := 64#32
  let v1163 : BitVec 32 := Scalar.addi v74 c64_i32
  let v1164 : Index := Scalar.indexCast v1163
  ![v1164.toNat]
def k0_mult577 (v1165 : BitVec 32) : BitVec 32 :=
  let c3_i32_486 : BitVec 32 := 3#32
  let v1166 : BitVec 32 := Scalar.shrsi v1165 c3_i32_486
  let c8191_i32_487 : BitVec 32 := 8191#32
  let v1167 : BitVec 32 := Scalar.andi v1166 c8191_i32_487
  let c8_i32_488 : BitVec 32 := 8#32
  let v1168 : BitVec 32 := Scalar.muli v1167 c8_i32_488
  v1168

def k0_off1517 (v1165 : BitVec 32) : Fin 2 → Nat :=
  let c3_i32_486 : BitVec 32 := 3#32
  let v1166 : BitVec 32 := Scalar.shrsi v1165 c3_i32_486
  let c8191_i32_487 : BitVec 32 := 8191#32
  let v1167 : BitVec 32 := Scalar.andi v1166 c8191_i32_487
  let c8_i32_488 : BitVec 32 := 8#32
  let v1168 : BitVec 32 := Scalar.muli v1167 c8_i32_488
  let v1169 : BitVec 32 := v1168
  let v1170 : Index := Scalar.indexCast v1169
  let c0_489 : Index := 0#32
  ![v1170.toNat, 0]
def k0_off1518 (v1165 : BitVec 32) : Fin 2 → Nat :=
  let c3_i32_486 : BitVec 32 := 3#32
  let v1166 : BitVec 32 := Scalar.shrsi v1165 c3_i32_486
  let c8191_i32_487 : BitVec 32 := 8191#32
  let v1167 : BitVec 32 := Scalar.andi v1166 c8191_i32_487
  let v1175 : Index := Scalar.indexCast v1167
  let c0_491 : Index := 0#32
  ![v1175.toNat, 0]

def k0_chk583 (i : grid0.Coords) (v48 : BitVec 32) (v1165 : BitVec 32) : Prop :=
  (∀ (k0_h10 : k0_cond10 i v48 = 1#1), 8 ∣ (k0_mult577 v1165).toNat) ∧
  (∀ (k0_h10 : k0_cond10 i v48 = 1#1), ∀ a, (k0_off1517 v1165) a + S8x128.size a ≤ S65536x128.size a) ∧
  (∀ (k0_h10 : k0_cond10 i v48 = 1#1), ∀ a, (k0_off1518 v1165) a + S1x128.size a ≤ S8192x128.size a)
theorem k0_mult577_dvd : ∀ (i : grid0.Coords) (v48 : BitVec 32) (v1165 : BitVec 32) (k0_hw583 : k0_chk583 i v48 v1165), ∀ (k0_h10 : k0_cond10 i v48 = 1#1), 8 ∣ (k0_mult577 v1165).toNat := fun i v48 v1165 k0_hw583 k0_h10 => k0_hw583.1 k0_h10
theorem k0_off1517_inb : ∀ (i : grid0.Coords) (v48 : BitVec 32) (v1165 : BitVec 32) (k0_hw583 : k0_chk583 i v48 v1165), ∀ (k0_h10 : k0_cond10 i v48 = 1#1), ∀ a, (k0_off1517 v1165) a + S8x128.size a ≤ S65536x128.size a := fun i v48 v1165 k0_hw583 k0_h10 => k0_hw583.2.1 k0_h10
theorem k0_off1518_inb : ∀ (i : grid0.Coords) (v48 : BitVec 32) (v1165 : BitVec 32) (k0_hw583 : k0_chk583 i v48 v1165), ∀ (k0_h10 : k0_cond10 i v48 = 1#1), ∀ a, (k0_off1518 v1165) a + S1x128.size a ≤ S8192x128.size a := fun i v48 v1165 k0_hw583 k0_h10 => k0_hw583.2.2 k0_h10

def k0_off1519 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c65_i32_494 : BitVec 32 := 65#32
  let v1180 : BitVec 32 := Scalar.addi v74 c65_i32_494
  let v1181 : Index := Scalar.indexCast v1180
  ![v1181.toNat]
def k0_mult578 (v1182 : BitVec 32) : BitVec 32 :=
  let c3_i32_495 : BitVec 32 := 3#32
  let v1183 : BitVec 32 := Scalar.shrsi v1182 c3_i32_495
  let c8191_i32_496 : BitVec 32 := 8191#32
  let v1184 : BitVec 32 := Scalar.andi v1183 c8191_i32_496
  let c8_i32_497 : BitVec 32 := 8#32
  let v1185 : BitVec 32 := Scalar.muli v1184 c8_i32_497
  v1185

def k0_off1520 (v1182 : BitVec 32) : Fin 2 → Nat :=
  let c3_i32_495 : BitVec 32 := 3#32
  let v1183 : BitVec 32 := Scalar.shrsi v1182 c3_i32_495
  let c8191_i32_496 : BitVec 32 := 8191#32
  let v1184 : BitVec 32 := Scalar.andi v1183 c8191_i32_496
  let c8_i32_497 : BitVec 32 := 8#32
  let v1185 : BitVec 32 := Scalar.muli v1184 c8_i32_497
  let v1186 : BitVec 32 := v1185
  let v1187 : Index := Scalar.indexCast v1186
  let c0_498 : Index := 0#32
  ![v1187.toNat, 0]
def k0_off1521 (v1182 : BitVec 32) : Fin 2 → Nat :=
  let c3_i32_495 : BitVec 32 := 3#32
  let v1183 : BitVec 32 := Scalar.shrsi v1182 c3_i32_495
  let c8191_i32_496 : BitVec 32 := 8191#32
  let v1184 : BitVec 32 := Scalar.andi v1183 c8191_i32_496
  let v1192 : Index := Scalar.indexCast v1184
  let c0_500 : Index := 0#32
  ![v1192.toNat, 0]

def k0_chk584 (i : grid0.Coords) (v48 : BitVec 32) (v1182 : BitVec 32) : Prop :=
  (∀ (k0_h10 : k0_cond10 i v48 = 1#1), 8 ∣ (k0_mult578 v1182).toNat) ∧
  (∀ (k0_h10 : k0_cond10 i v48 = 1#1), ∀ a, (k0_off1520 v1182) a + S8x128.size a ≤ S65536x128.size a) ∧
  (∀ (k0_h10 : k0_cond10 i v48 = 1#1), ∀ a, (k0_off1521 v1182) a + S1x128.size a ≤ S8192x128.size a)
theorem k0_mult578_dvd : ∀ (i : grid0.Coords) (v48 : BitVec 32) (v1182 : BitVec 32) (k0_hw584 : k0_chk584 i v48 v1182), ∀ (k0_h10 : k0_cond10 i v48 = 1#1), 8 ∣ (k0_mult578 v1182).toNat := fun i v48 v1182 k0_hw584 k0_h10 => k0_hw584.1 k0_h10
theorem k0_off1520_inb : ∀ (i : grid0.Coords) (v48 : BitVec 32) (v1182 : BitVec 32) (k0_hw584 : k0_chk584 i v48 v1182), ∀ (k0_h10 : k0_cond10 i v48 = 1#1), ∀ a, (k0_off1520 v1182) a + S8x128.size a ≤ S65536x128.size a := fun i v48 v1182 k0_hw584 k0_h10 => k0_hw584.2.1 k0_h10
theorem k0_off1521_inb : ∀ (i : grid0.Coords) (v48 : BitVec 32) (v1182 : BitVec 32) (k0_hw584 : k0_chk584 i v48 v1182), ∀ (k0_h10 : k0_cond10 i v48 = 1#1), ∀ a, (k0_off1521 v1182) a + S1x128.size a ≤ S8192x128.size a := fun i v48 v1182 k0_hw584 k0_h10 => k0_hw584.2.2 k0_h10

def k0_off1522 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c66_i32 : BitVec 32 := 66#32
  let v1197 : BitVec 32 := Scalar.addi v74 c66_i32
  let v1198 : Index := Scalar.indexCast v1197
  ![v1198.toNat]
def k0_mult579 (v1199 : BitVec 32) : BitVec 32 :=
  let c3_i32_502 : BitVec 32 := 3#32
  let v1200 : BitVec 32 := Scalar.shrsi v1199 c3_i32_502
  let c8191_i32_503 : BitVec 32 := 8191#32
  let v1201 : BitVec 32 := Scalar.andi v1200 c8191_i32_503
  let c8_i32_504 : BitVec 32 := 8#32
  let v1202 : BitVec 32 := Scalar.muli v1201 c8_i32_504
  v1202

def k0_off1523 (v1199 : BitVec 32) : Fin 2 → Nat :=
  let c3_i32_502 : BitVec 32 := 3#32
  let v1200 : BitVec 32 := Scalar.shrsi v1199 c3_i32_502
  let c8191_i32_503 : BitVec 32 := 8191#32
  let v1201 : BitVec 32 := Scalar.andi v1200 c8191_i32_503
  let c8_i32_504 : BitVec 32 := 8#32
  let v1202 : BitVec 32 := Scalar.muli v1201 c8_i32_504
  let v1203 : BitVec 32 := v1202
  let v1204 : Index := Scalar.indexCast v1203
  let c0_505 : Index := 0#32
  ![v1204.toNat, 0]
def k0_off1524 (v1199 : BitVec 32) : Fin 2 → Nat :=
  let c3_i32_502 : BitVec 32 := 3#32
  let v1200 : BitVec 32 := Scalar.shrsi v1199 c3_i32_502
  let c8191_i32_503 : BitVec 32 := 8191#32
  let v1201 : BitVec 32 := Scalar.andi v1200 c8191_i32_503
  let v1209 : Index := Scalar.indexCast v1201
  let c0_507 : Index := 0#32
  ![v1209.toNat, 0]

def k0_chk585 (i : grid0.Coords) (v48 : BitVec 32) (v1199 : BitVec 32) : Prop :=
  (∀ (k0_h10 : k0_cond10 i v48 = 1#1), 8 ∣ (k0_mult579 v1199).toNat) ∧
  (∀ (k0_h10 : k0_cond10 i v48 = 1#1), ∀ a, (k0_off1523 v1199) a + S8x128.size a ≤ S65536x128.size a) ∧
  (∀ (k0_h10 : k0_cond10 i v48 = 1#1), ∀ a, (k0_off1524 v1199) a + S1x128.size a ≤ S8192x128.size a)
theorem k0_mult579_dvd : ∀ (i : grid0.Coords) (v48 : BitVec 32) (v1199 : BitVec 32) (k0_hw585 : k0_chk585 i v48 v1199), ∀ (k0_h10 : k0_cond10 i v48 = 1#1), 8 ∣ (k0_mult579 v1199).toNat := fun i v48 v1199 k0_hw585 k0_h10 => k0_hw585.1 k0_h10
theorem k0_off1523_inb : ∀ (i : grid0.Coords) (v48 : BitVec 32) (v1199 : BitVec 32) (k0_hw585 : k0_chk585 i v48 v1199), ∀ (k0_h10 : k0_cond10 i v48 = 1#1), ∀ a, (k0_off1523 v1199) a + S8x128.size a ≤ S65536x128.size a := fun i v48 v1199 k0_hw585 k0_h10 => k0_hw585.2.1 k0_h10
theorem k0_off1524_inb : ∀ (i : grid0.Coords) (v48 : BitVec 32) (v1199 : BitVec 32) (k0_hw585 : k0_chk585 i v48 v1199), ∀ (k0_h10 : k0_cond10 i v48 = 1#1), ∀ a, (k0_off1524 v1199) a + S1x128.size a ≤ S8192x128.size a := fun i v48 v1199 k0_hw585 k0_h10 => k0_hw585.2.2 k0_h10

def k0_off1525 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c67_i32 : BitVec 32 := 67#32
  let v1214 : BitVec 32 := Scalar.addi v74 c67_i32
  let v1215 : Index := Scalar.indexCast v1214
  ![v1215.toNat]
def k0_mult580 (v1216 : BitVec 32) : BitVec 32 :=
  let c3_i32_509 : BitVec 32 := 3#32
  let v1217 : BitVec 32 := Scalar.shrsi v1216 c3_i32_509
  let c8191_i32_510 : BitVec 32 := 8191#32
  let v1218 : BitVec 32 := Scalar.andi v1217 c8191_i32_510
  let c8_i32_511 : BitVec 32 := 8#32
  let v1219 : BitVec 32 := Scalar.muli v1218 c8_i32_511
  v1219

def k0_off1526 (v1216 : BitVec 32) : Fin 2 → Nat :=
  let c3_i32_509 : BitVec 32 := 3#32
  let v1217 : BitVec 32 := Scalar.shrsi v1216 c3_i32_509
  let c8191_i32_510 : BitVec 32 := 8191#32
  let v1218 : BitVec 32 := Scalar.andi v1217 c8191_i32_510
  let c8_i32_511 : BitVec 32 := 8#32
  let v1219 : BitVec 32 := Scalar.muli v1218 c8_i32_511
  let v1220 : BitVec 32 := v1219
  let v1221 : Index := Scalar.indexCast v1220
  let c0_512 : Index := 0#32
  ![v1221.toNat, 0]
def k0_off1527 (v1216 : BitVec 32) : Fin 2 → Nat :=
  let c3_i32_509 : BitVec 32 := 3#32
  let v1217 : BitVec 32 := Scalar.shrsi v1216 c3_i32_509
  let c8191_i32_510 : BitVec 32 := 8191#32
  let v1218 : BitVec 32 := Scalar.andi v1217 c8191_i32_510
  let v1226 : Index := Scalar.indexCast v1218
  let c0_514 : Index := 0#32
  ![v1226.toNat, 0]

def k0_chk586 (i : grid0.Coords) (v48 : BitVec 32) (v1216 : BitVec 32) : Prop :=
  (∀ (k0_h10 : k0_cond10 i v48 = 1#1), 8 ∣ (k0_mult580 v1216).toNat) ∧
  (∀ (k0_h10 : k0_cond10 i v48 = 1#1), ∀ a, (k0_off1526 v1216) a + S8x128.size a ≤ S65536x128.size a) ∧
  (∀ (k0_h10 : k0_cond10 i v48 = 1#1), ∀ a, (k0_off1527 v1216) a + S1x128.size a ≤ S8192x128.size a)
theorem k0_mult580_dvd : ∀ (i : grid0.Coords) (v48 : BitVec 32) (v1216 : BitVec 32) (k0_hw586 : k0_chk586 i v48 v1216), ∀ (k0_h10 : k0_cond10 i v48 = 1#1), 8 ∣ (k0_mult580 v1216).toNat := fun i v48 v1216 k0_hw586 k0_h10 => k0_hw586.1 k0_h10
theorem k0_off1526_inb : ∀ (i : grid0.Coords) (v48 : BitVec 32) (v1216 : BitVec 32) (k0_hw586 : k0_chk586 i v48 v1216), ∀ (k0_h10 : k0_cond10 i v48 = 1#1), ∀ a, (k0_off1526 v1216) a + S8x128.size a ≤ S65536x128.size a := fun i v48 v1216 k0_hw586 k0_h10 => k0_hw586.2.1 k0_h10
theorem k0_off1527_inb : ∀ (i : grid0.Coords) (v48 : BitVec 32) (v1216 : BitVec 32) (k0_hw586 : k0_chk586 i v48 v1216), ∀ (k0_h10 : k0_cond10 i v48 = 1#1), ∀ a, (k0_off1527 v1216) a + S1x128.size a ≤ S8192x128.size a := fun i v48 v1216 k0_hw586 k0_h10 => k0_hw586.2.2 k0_h10

def k0_off1528 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c68_i32 : BitVec 32 := 68#32
  let v1231 : BitVec 32 := Scalar.addi v74 c68_i32
  let v1232 : Index := Scalar.indexCast v1231
  ![v1232.toNat]
def k0_mult581 (v1233 : BitVec 32) : BitVec 32 :=
  let c3_i32_516 : BitVec 32 := 3#32
  let v1234 : BitVec 32 := Scalar.shrsi v1233 c3_i32_516
  let c8191_i32_517 : BitVec 32 := 8191#32
  let v1235 : BitVec 32 := Scalar.andi v1234 c8191_i32_517
  let c8_i32_518 : BitVec 32 := 8#32
  let v1236 : BitVec 32 := Scalar.muli v1235 c8_i32_518
  v1236

def k0_off1529 (v1233 : BitVec 32) : Fin 2 → Nat :=
  let c3_i32_516 : BitVec 32 := 3#32
  let v1234 : BitVec 32 := Scalar.shrsi v1233 c3_i32_516
  let c8191_i32_517 : BitVec 32 := 8191#32
  let v1235 : BitVec 32 := Scalar.andi v1234 c8191_i32_517
  let c8_i32_518 : BitVec 32 := 8#32
  let v1236 : BitVec 32 := Scalar.muli v1235 c8_i32_518
  let v1237 : BitVec 32 := v1236
  let v1238 : Index := Scalar.indexCast v1237
  let c0_519 : Index := 0#32
  ![v1238.toNat, 0]
def k0_off1530 (v1233 : BitVec 32) : Fin 2 → Nat :=
  let c3_i32_516 : BitVec 32 := 3#32
  let v1234 : BitVec 32 := Scalar.shrsi v1233 c3_i32_516
  let c8191_i32_517 : BitVec 32 := 8191#32
  let v1235 : BitVec 32 := Scalar.andi v1234 c8191_i32_517
  let v1243 : Index := Scalar.indexCast v1235
  let c0_521 : Index := 0#32
  ![v1243.toNat, 0]

def k0_chk587 (i : grid0.Coords) (v48 : BitVec 32) (v1233 : BitVec 32) : Prop :=
  (∀ (k0_h10 : k0_cond10 i v48 = 1#1), 8 ∣ (k0_mult581 v1233).toNat) ∧
  (∀ (k0_h10 : k0_cond10 i v48 = 1#1), ∀ a, (k0_off1529 v1233) a + S8x128.size a ≤ S65536x128.size a) ∧
  (∀ (k0_h10 : k0_cond10 i v48 = 1#1), ∀ a, (k0_off1530 v1233) a + S1x128.size a ≤ S8192x128.size a)
theorem k0_mult581_dvd : ∀ (i : grid0.Coords) (v48 : BitVec 32) (v1233 : BitVec 32) (k0_hw587 : k0_chk587 i v48 v1233), ∀ (k0_h10 : k0_cond10 i v48 = 1#1), 8 ∣ (k0_mult581 v1233).toNat := fun i v48 v1233 k0_hw587 k0_h10 => k0_hw587.1 k0_h10
theorem k0_off1529_inb : ∀ (i : grid0.Coords) (v48 : BitVec 32) (v1233 : BitVec 32) (k0_hw587 : k0_chk587 i v48 v1233), ∀ (k0_h10 : k0_cond10 i v48 = 1#1), ∀ a, (k0_off1529 v1233) a + S8x128.size a ≤ S65536x128.size a := fun i v48 v1233 k0_hw587 k0_h10 => k0_hw587.2.1 k0_h10
theorem k0_off1530_inb : ∀ (i : grid0.Coords) (v48 : BitVec 32) (v1233 : BitVec 32) (k0_hw587 : k0_chk587 i v48 v1233), ∀ (k0_h10 : k0_cond10 i v48 = 1#1), ∀ a, (k0_off1530 v1233) a + S1x128.size a ≤ S8192x128.size a := fun i v48 v1233 k0_hw587 k0_h10 => k0_hw587.2.2 k0_h10

def k0_off1531 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c69_i32 : BitVec 32 := 69#32
  let v1248 : BitVec 32 := Scalar.addi v74 c69_i32
  let v1249 : Index := Scalar.indexCast v1248
  ![v1249.toNat]
def k0_mult582 (v1250 : BitVec 32) : BitVec 32 :=
  let c3_i32_523 : BitVec 32 := 3#32
  let v1251 : BitVec 32 := Scalar.shrsi v1250 c3_i32_523
  let c8191_i32_524 : BitVec 32 := 8191#32
  let v1252 : BitVec 32 := Scalar.andi v1251 c8191_i32_524
  let c8_i32_525 : BitVec 32 := 8#32
  let v1253 : BitVec 32 := Scalar.muli v1252 c8_i32_525
  v1253

def k0_off1532 (v1250 : BitVec 32) : Fin 2 → Nat :=
  let c3_i32_523 : BitVec 32 := 3#32
  let v1251 : BitVec 32 := Scalar.shrsi v1250 c3_i32_523
  let c8191_i32_524 : BitVec 32 := 8191#32
  let v1252 : BitVec 32 := Scalar.andi v1251 c8191_i32_524
  let c8_i32_525 : BitVec 32 := 8#32
  let v1253 : BitVec 32 := Scalar.muli v1252 c8_i32_525
  let v1254 : BitVec 32 := v1253
  let v1255 : Index := Scalar.indexCast v1254
  let c0_526 : Index := 0#32
  ![v1255.toNat, 0]
def k0_off1533 (v1250 : BitVec 32) : Fin 2 → Nat :=
  let c3_i32_523 : BitVec 32 := 3#32
  let v1251 : BitVec 32 := Scalar.shrsi v1250 c3_i32_523
  let c8191_i32_524 : BitVec 32 := 8191#32
  let v1252 : BitVec 32 := Scalar.andi v1251 c8191_i32_524
  let v1260 : Index := Scalar.indexCast v1252
  let c0_528 : Index := 0#32
  ![v1260.toNat, 0]

def k0_chk588 (i : grid0.Coords) (v48 : BitVec 32) (v1250 : BitVec 32) : Prop :=
  (∀ (k0_h10 : k0_cond10 i v48 = 1#1), 8 ∣ (k0_mult582 v1250).toNat) ∧
  (∀ (k0_h10 : k0_cond10 i v48 = 1#1), ∀ a, (k0_off1532 v1250) a + S8x128.size a ≤ S65536x128.size a) ∧
  (∀ (k0_h10 : k0_cond10 i v48 = 1#1), ∀ a, (k0_off1533 v1250) a + S1x128.size a ≤ S8192x128.size a)
theorem k0_mult582_dvd : ∀ (i : grid0.Coords) (v48 : BitVec 32) (v1250 : BitVec 32) (k0_hw588 : k0_chk588 i v48 v1250), ∀ (k0_h10 : k0_cond10 i v48 = 1#1), 8 ∣ (k0_mult582 v1250).toNat := fun i v48 v1250 k0_hw588 k0_h10 => k0_hw588.1 k0_h10
theorem k0_off1532_inb : ∀ (i : grid0.Coords) (v48 : BitVec 32) (v1250 : BitVec 32) (k0_hw588 : k0_chk588 i v48 v1250), ∀ (k0_h10 : k0_cond10 i v48 = 1#1), ∀ a, (k0_off1532 v1250) a + S8x128.size a ≤ S65536x128.size a := fun i v48 v1250 k0_hw588 k0_h10 => k0_hw588.2.1 k0_h10
theorem k0_off1533_inb : ∀ (i : grid0.Coords) (v48 : BitVec 32) (v1250 : BitVec 32) (k0_hw588 : k0_chk588 i v48 v1250), ∀ (k0_h10 : k0_cond10 i v48 = 1#1), ∀ a, (k0_off1533 v1250) a + S1x128.size a ≤ S8192x128.size a := fun i v48 v1250 k0_hw588 k0_h10 => k0_hw588.2.2 k0_h10

def k0_off1534 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c70_i32 : BitVec 32 := 70#32
  let v1265 : BitVec 32 := Scalar.addi v74 c70_i32
  let v1266 : Index := Scalar.indexCast v1265
  ![v1266.toNat]
def k0_mult583 (v1267 : BitVec 32) : BitVec 32 :=
  let c3_i32_530 : BitVec 32 := 3#32
  let v1268 : BitVec 32 := Scalar.shrsi v1267 c3_i32_530
  let c8191_i32_531 : BitVec 32 := 8191#32
  let v1269 : BitVec 32 := Scalar.andi v1268 c8191_i32_531
  let c8_i32_532 : BitVec 32 := 8#32
  let v1270 : BitVec 32 := Scalar.muli v1269 c8_i32_532
  v1270

def k0_off1535 (v1267 : BitVec 32) : Fin 2 → Nat :=
  let c3_i32_530 : BitVec 32 := 3#32
  let v1268 : BitVec 32 := Scalar.shrsi v1267 c3_i32_530
  let c8191_i32_531 : BitVec 32 := 8191#32
  let v1269 : BitVec 32 := Scalar.andi v1268 c8191_i32_531
  let c8_i32_532 : BitVec 32 := 8#32
  let v1270 : BitVec 32 := Scalar.muli v1269 c8_i32_532
  let v1271 : BitVec 32 := v1270
  let v1272 : Index := Scalar.indexCast v1271
  let c0_533 : Index := 0#32
  ![v1272.toNat, 0]
def k0_off1536 (v1267 : BitVec 32) : Fin 2 → Nat :=
  let c3_i32_530 : BitVec 32 := 3#32
  let v1268 : BitVec 32 := Scalar.shrsi v1267 c3_i32_530
  let c8191_i32_531 : BitVec 32 := 8191#32
  let v1269 : BitVec 32 := Scalar.andi v1268 c8191_i32_531
  let v1277 : Index := Scalar.indexCast v1269
  let c0_535 : Index := 0#32
  ![v1277.toNat, 0]

def k0_chk589 (i : grid0.Coords) (v48 : BitVec 32) (v1267 : BitVec 32) : Prop :=
  (∀ (k0_h10 : k0_cond10 i v48 = 1#1), 8 ∣ (k0_mult583 v1267).toNat) ∧
  (∀ (k0_h10 : k0_cond10 i v48 = 1#1), ∀ a, (k0_off1535 v1267) a + S8x128.size a ≤ S65536x128.size a) ∧
  (∀ (k0_h10 : k0_cond10 i v48 = 1#1), ∀ a, (k0_off1536 v1267) a + S1x128.size a ≤ S8192x128.size a)
theorem k0_mult583_dvd : ∀ (i : grid0.Coords) (v48 : BitVec 32) (v1267 : BitVec 32) (k0_hw589 : k0_chk589 i v48 v1267), ∀ (k0_h10 : k0_cond10 i v48 = 1#1), 8 ∣ (k0_mult583 v1267).toNat := fun i v48 v1267 k0_hw589 k0_h10 => k0_hw589.1 k0_h10
theorem k0_off1535_inb : ∀ (i : grid0.Coords) (v48 : BitVec 32) (v1267 : BitVec 32) (k0_hw589 : k0_chk589 i v48 v1267), ∀ (k0_h10 : k0_cond10 i v48 = 1#1), ∀ a, (k0_off1535 v1267) a + S8x128.size a ≤ S65536x128.size a := fun i v48 v1267 k0_hw589 k0_h10 => k0_hw589.2.1 k0_h10
theorem k0_off1536_inb : ∀ (i : grid0.Coords) (v48 : BitVec 32) (v1267 : BitVec 32) (k0_hw589 : k0_chk589 i v48 v1267), ∀ (k0_h10 : k0_cond10 i v48 = 1#1), ∀ a, (k0_off1536 v1267) a + S1x128.size a ≤ S8192x128.size a := fun i v48 v1267 k0_hw589 k0_h10 => k0_hw589.2.2 k0_h10

def k0_off1537 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c71_i32 : BitVec 32 := 71#32
  let v1282 : BitVec 32 := Scalar.addi v74 c71_i32
  let v1283 : Index := Scalar.indexCast v1282
  ![v1283.toNat]
def k0_mult584 (v1284 : BitVec 32) : BitVec 32 :=
  let c3_i32_537 : BitVec 32 := 3#32
  let v1285 : BitVec 32 := Scalar.shrsi v1284 c3_i32_537
  let c8191_i32_538 : BitVec 32 := 8191#32
  let v1286 : BitVec 32 := Scalar.andi v1285 c8191_i32_538
  let c8_i32_539 : BitVec 32 := 8#32
  let v1287 : BitVec 32 := Scalar.muli v1286 c8_i32_539
  v1287

def k0_off1538 (v1284 : BitVec 32) : Fin 2 → Nat :=
  let c3_i32_537 : BitVec 32 := 3#32
  let v1285 : BitVec 32 := Scalar.shrsi v1284 c3_i32_537
  let c8191_i32_538 : BitVec 32 := 8191#32
  let v1286 : BitVec 32 := Scalar.andi v1285 c8191_i32_538
  let c8_i32_539 : BitVec 32 := 8#32
  let v1287 : BitVec 32 := Scalar.muli v1286 c8_i32_539
  let v1288 : BitVec 32 := v1287
  let v1289 : Index := Scalar.indexCast v1288
  let c0_540 : Index := 0#32
  ![v1289.toNat, 0]
def k0_off1539 (v1284 : BitVec 32) : Fin 2 → Nat :=
  let c3_i32_537 : BitVec 32 := 3#32
  let v1285 : BitVec 32 := Scalar.shrsi v1284 c3_i32_537
  let c8191_i32_538 : BitVec 32 := 8191#32
  let v1286 : BitVec 32 := Scalar.andi v1285 c8191_i32_538
  let v1294 : Index := Scalar.indexCast v1286
  let c0_542 : Index := 0#32
  ![v1294.toNat, 0]

def k0_chk590 (i : grid0.Coords) (v48 : BitVec 32) (v1284 : BitVec 32) : Prop :=
  (∀ (k0_h10 : k0_cond10 i v48 = 1#1), 8 ∣ (k0_mult584 v1284).toNat) ∧
  (∀ (k0_h10 : k0_cond10 i v48 = 1#1), ∀ a, (k0_off1538 v1284) a + S8x128.size a ≤ S65536x128.size a) ∧
  (∀ (k0_h10 : k0_cond10 i v48 = 1#1), ∀ a, (k0_off1539 v1284) a + S1x128.size a ≤ S8192x128.size a)
theorem k0_mult584_dvd : ∀ (i : grid0.Coords) (v48 : BitVec 32) (v1284 : BitVec 32) (k0_hw590 : k0_chk590 i v48 v1284), ∀ (k0_h10 : k0_cond10 i v48 = 1#1), 8 ∣ (k0_mult584 v1284).toNat := fun i v48 v1284 k0_hw590 k0_h10 => k0_hw590.1 k0_h10
theorem k0_off1538_inb : ∀ (i : grid0.Coords) (v48 : BitVec 32) (v1284 : BitVec 32) (k0_hw590 : k0_chk590 i v48 v1284), ∀ (k0_h10 : k0_cond10 i v48 = 1#1), ∀ a, (k0_off1538 v1284) a + S8x128.size a ≤ S65536x128.size a := fun i v48 v1284 k0_hw590 k0_h10 => k0_hw590.2.1 k0_h10
theorem k0_off1539_inb : ∀ (i : grid0.Coords) (v48 : BitVec 32) (v1284 : BitVec 32) (k0_hw590 : k0_chk590 i v48 v1284), ∀ (k0_h10 : k0_cond10 i v48 = 1#1), ∀ a, (k0_off1539 v1284) a + S1x128.size a ≤ S8192x128.size a := fun i v48 v1284 k0_hw590 k0_h10 => k0_hw590.2.2 k0_h10

def k0_off1540 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c72_i32 : BitVec 32 := 72#32
  let v1299 : BitVec 32 := Scalar.addi v74 c72_i32
  let v1300 : Index := Scalar.indexCast v1299
  ![v1300.toNat]
def k0_mult585 (v1301 : BitVec 32) : BitVec 32 :=
  let c3_i32_544 : BitVec 32 := 3#32
  let v1302 : BitVec 32 := Scalar.shrsi v1301 c3_i32_544
  let c8191_i32_545 : BitVec 32 := 8191#32
  let v1303 : BitVec 32 := Scalar.andi v1302 c8191_i32_545
  let c8_i32_546 : BitVec 32 := 8#32
  let v1304 : BitVec 32 := Scalar.muli v1303 c8_i32_546
  v1304

def k0_off1541 (v1301 : BitVec 32) : Fin 2 → Nat :=
  let c3_i32_544 : BitVec 32 := 3#32
  let v1302 : BitVec 32 := Scalar.shrsi v1301 c3_i32_544
  let c8191_i32_545 : BitVec 32 := 8191#32
  let v1303 : BitVec 32 := Scalar.andi v1302 c8191_i32_545
  let c8_i32_546 : BitVec 32 := 8#32
  let v1304 : BitVec 32 := Scalar.muli v1303 c8_i32_546
  let v1305 : BitVec 32 := v1304
  let v1306 : Index := Scalar.indexCast v1305
  let c0_547 : Index := 0#32
  ![v1306.toNat, 0]
def k0_off1542 (v1301 : BitVec 32) : Fin 2 → Nat :=
  let c3_i32_544 : BitVec 32 := 3#32
  let v1302 : BitVec 32 := Scalar.shrsi v1301 c3_i32_544
  let c8191_i32_545 : BitVec 32 := 8191#32
  let v1303 : BitVec 32 := Scalar.andi v1302 c8191_i32_545
  let v1311 : Index := Scalar.indexCast v1303
  let c0_549 : Index := 0#32
  ![v1311.toNat, 0]

def k0_chk591 (i : grid0.Coords) (v48 : BitVec 32) (v1301 : BitVec 32) : Prop :=
  (∀ (k0_h10 : k0_cond10 i v48 = 1#1), 8 ∣ (k0_mult585 v1301).toNat) ∧
  (∀ (k0_h10 : k0_cond10 i v48 = 1#1), ∀ a, (k0_off1541 v1301) a + S8x128.size a ≤ S65536x128.size a) ∧
  (∀ (k0_h10 : k0_cond10 i v48 = 1#1), ∀ a, (k0_off1542 v1301) a + S1x128.size a ≤ S8192x128.size a)
theorem k0_mult585_dvd : ∀ (i : grid0.Coords) (v48 : BitVec 32) (v1301 : BitVec 32) (k0_hw591 : k0_chk591 i v48 v1301), ∀ (k0_h10 : k0_cond10 i v48 = 1#1), 8 ∣ (k0_mult585 v1301).toNat := fun i v48 v1301 k0_hw591 k0_h10 => k0_hw591.1 k0_h10
theorem k0_off1541_inb : ∀ (i : grid0.Coords) (v48 : BitVec 32) (v1301 : BitVec 32) (k0_hw591 : k0_chk591 i v48 v1301), ∀ (k0_h10 : k0_cond10 i v48 = 1#1), ∀ a, (k0_off1541 v1301) a + S8x128.size a ≤ S65536x128.size a := fun i v48 v1301 k0_hw591 k0_h10 => k0_hw591.2.1 k0_h10
theorem k0_off1542_inb : ∀ (i : grid0.Coords) (v48 : BitVec 32) (v1301 : BitVec 32) (k0_hw591 : k0_chk591 i v48 v1301), ∀ (k0_h10 : k0_cond10 i v48 = 1#1), ∀ a, (k0_off1542 v1301) a + S1x128.size a ≤ S8192x128.size a := fun i v48 v1301 k0_hw591 k0_h10 => k0_hw591.2.2 k0_h10

def k0_off1543 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c73_i32 : BitVec 32 := 73#32
  let v1316 : BitVec 32 := Scalar.addi v74 c73_i32
  let v1317 : Index := Scalar.indexCast v1316
  ![v1317.toNat]
def k0_mult586 (v1318 : BitVec 32) : BitVec 32 :=
  let c3_i32_552 : BitVec 32 := 3#32
  let v1319 : BitVec 32 := Scalar.shrsi v1318 c3_i32_552
  let c8191_i32_553 : BitVec 32 := 8191#32
  let v1320 : BitVec 32 := Scalar.andi v1319 c8191_i32_553
  let c8_i32_554 : BitVec 32 := 8#32
  let v1321 : BitVec 32 := Scalar.muli v1320 c8_i32_554
  v1321

def k0_off1544 (v1318 : BitVec 32) : Fin 2 → Nat :=
  let c3_i32_552 : BitVec 32 := 3#32
  let v1319 : BitVec 32 := Scalar.shrsi v1318 c3_i32_552
  let c8191_i32_553 : BitVec 32 := 8191#32
  let v1320 : BitVec 32 := Scalar.andi v1319 c8191_i32_553
  let c8_i32_554 : BitVec 32 := 8#32
  let v1321 : BitVec 32 := Scalar.muli v1320 c8_i32_554
  let v1322 : BitVec 32 := v1321
  let v1323 : Index := Scalar.indexCast v1322
  let c0_555 : Index := 0#32
  ![v1323.toNat, 0]
def k0_off1545 (v1318 : BitVec 32) : Fin 2 → Nat :=
  let c3_i32_552 : BitVec 32 := 3#32
  let v1319 : BitVec 32 := Scalar.shrsi v1318 c3_i32_552
  let c8191_i32_553 : BitVec 32 := 8191#32
  let v1320 : BitVec 32 := Scalar.andi v1319 c8191_i32_553
  let v1328 : Index := Scalar.indexCast v1320
  let c0_557 : Index := 0#32
  ![v1328.toNat, 0]

def k0_chk592 (i : grid0.Coords) (v48 : BitVec 32) (v1318 : BitVec 32) : Prop :=
  (∀ (k0_h10 : k0_cond10 i v48 = 1#1), 8 ∣ (k0_mult586 v1318).toNat) ∧
  (∀ (k0_h10 : k0_cond10 i v48 = 1#1), ∀ a, (k0_off1544 v1318) a + S8x128.size a ≤ S65536x128.size a) ∧
  (∀ (k0_h10 : k0_cond10 i v48 = 1#1), ∀ a, (k0_off1545 v1318) a + S1x128.size a ≤ S8192x128.size a)
theorem k0_mult586_dvd : ∀ (i : grid0.Coords) (v48 : BitVec 32) (v1318 : BitVec 32) (k0_hw592 : k0_chk592 i v48 v1318), ∀ (k0_h10 : k0_cond10 i v48 = 1#1), 8 ∣ (k0_mult586 v1318).toNat := fun i v48 v1318 k0_hw592 k0_h10 => k0_hw592.1 k0_h10
theorem k0_off1544_inb : ∀ (i : grid0.Coords) (v48 : BitVec 32) (v1318 : BitVec 32) (k0_hw592 : k0_chk592 i v48 v1318), ∀ (k0_h10 : k0_cond10 i v48 = 1#1), ∀ a, (k0_off1544 v1318) a + S8x128.size a ≤ S65536x128.size a := fun i v48 v1318 k0_hw592 k0_h10 => k0_hw592.2.1 k0_h10
theorem k0_off1545_inb : ∀ (i : grid0.Coords) (v48 : BitVec 32) (v1318 : BitVec 32) (k0_hw592 : k0_chk592 i v48 v1318), ∀ (k0_h10 : k0_cond10 i v48 = 1#1), ∀ a, (k0_off1545 v1318) a + S1x128.size a ≤ S8192x128.size a := fun i v48 v1318 k0_hw592 k0_h10 => k0_hw592.2.2 k0_h10

def k0_off1546 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c74_i32 : BitVec 32 := 74#32
  let v1333 : BitVec 32 := Scalar.addi v74 c74_i32
  let v1334 : Index := Scalar.indexCast v1333
  ![v1334.toNat]
def k0_mult587 (v1335 : BitVec 32) : BitVec 32 :=
  let c3_i32_559 : BitVec 32 := 3#32
  let v1336 : BitVec 32 := Scalar.shrsi v1335 c3_i32_559
  let c8191_i32_560 : BitVec 32 := 8191#32
  let v1337 : BitVec 32 := Scalar.andi v1336 c8191_i32_560
  let c8_i32_561 : BitVec 32 := 8#32
  let v1338 : BitVec 32 := Scalar.muli v1337 c8_i32_561
  v1338

def k0_off1547 (v1335 : BitVec 32) : Fin 2 → Nat :=
  let c3_i32_559 : BitVec 32 := 3#32
  let v1336 : BitVec 32 := Scalar.shrsi v1335 c3_i32_559
  let c8191_i32_560 : BitVec 32 := 8191#32
  let v1337 : BitVec 32 := Scalar.andi v1336 c8191_i32_560
  let c8_i32_561 : BitVec 32 := 8#32
  let v1338 : BitVec 32 := Scalar.muli v1337 c8_i32_561
  let v1339 : BitVec 32 := v1338
  let v1340 : Index := Scalar.indexCast v1339
  let c0_562 : Index := 0#32
  ![v1340.toNat, 0]
def k0_off1548 (v1335 : BitVec 32) : Fin 2 → Nat :=
  let c3_i32_559 : BitVec 32 := 3#32
  let v1336 : BitVec 32 := Scalar.shrsi v1335 c3_i32_559
  let c8191_i32_560 : BitVec 32 := 8191#32
  let v1337 : BitVec 32 := Scalar.andi v1336 c8191_i32_560
  let v1345 : Index := Scalar.indexCast v1337
  let c0_564 : Index := 0#32
  ![v1345.toNat, 0]

def k0_chk593 (i : grid0.Coords) (v48 : BitVec 32) (v1335 : BitVec 32) : Prop :=
  (∀ (k0_h10 : k0_cond10 i v48 = 1#1), 8 ∣ (k0_mult587 v1335).toNat) ∧
  (∀ (k0_h10 : k0_cond10 i v48 = 1#1), ∀ a, (k0_off1547 v1335) a + S8x128.size a ≤ S65536x128.size a) ∧
  (∀ (k0_h10 : k0_cond10 i v48 = 1#1), ∀ a, (k0_off1548 v1335) a + S1x128.size a ≤ S8192x128.size a)
theorem k0_mult587_dvd : ∀ (i : grid0.Coords) (v48 : BitVec 32) (v1335 : BitVec 32) (k0_hw593 : k0_chk593 i v48 v1335), ∀ (k0_h10 : k0_cond10 i v48 = 1#1), 8 ∣ (k0_mult587 v1335).toNat := fun i v48 v1335 k0_hw593 k0_h10 => k0_hw593.1 k0_h10
theorem k0_off1547_inb : ∀ (i : grid0.Coords) (v48 : BitVec 32) (v1335 : BitVec 32) (k0_hw593 : k0_chk593 i v48 v1335), ∀ (k0_h10 : k0_cond10 i v48 = 1#1), ∀ a, (k0_off1547 v1335) a + S8x128.size a ≤ S65536x128.size a := fun i v48 v1335 k0_hw593 k0_h10 => k0_hw593.2.1 k0_h10
theorem k0_off1548_inb : ∀ (i : grid0.Coords) (v48 : BitVec 32) (v1335 : BitVec 32) (k0_hw593 : k0_chk593 i v48 v1335), ∀ (k0_h10 : k0_cond10 i v48 = 1#1), ∀ a, (k0_off1548 v1335) a + S1x128.size a ≤ S8192x128.size a := fun i v48 v1335 k0_hw593 k0_h10 => k0_hw593.2.2 k0_h10

def k0_off1549 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c75_i32 : BitVec 32 := 75#32
  let v1350 : BitVec 32 := Scalar.addi v74 c75_i32
  let v1351 : Index := Scalar.indexCast v1350
  ![v1351.toNat]
def k0_mult588 (v1352 : BitVec 32) : BitVec 32 :=
  let c3_i32_566 : BitVec 32 := 3#32
  let v1353 : BitVec 32 := Scalar.shrsi v1352 c3_i32_566
  let c8191_i32_567 : BitVec 32 := 8191#32
  let v1354 : BitVec 32 := Scalar.andi v1353 c8191_i32_567
  let c8_i32_568 : BitVec 32 := 8#32
  let v1355 : BitVec 32 := Scalar.muli v1354 c8_i32_568
  v1355

def k0_off1550 (v1352 : BitVec 32) : Fin 2 → Nat :=
  let c3_i32_566 : BitVec 32 := 3#32
  let v1353 : BitVec 32 := Scalar.shrsi v1352 c3_i32_566
  let c8191_i32_567 : BitVec 32 := 8191#32
  let v1354 : BitVec 32 := Scalar.andi v1353 c8191_i32_567
  let c8_i32_568 : BitVec 32 := 8#32
  let v1355 : BitVec 32 := Scalar.muli v1354 c8_i32_568
  let v1356 : BitVec 32 := v1355
  let v1357 : Index := Scalar.indexCast v1356
  let c0_569 : Index := 0#32
  ![v1357.toNat, 0]
def k0_off1551 (v1352 : BitVec 32) : Fin 2 → Nat :=
  let c3_i32_566 : BitVec 32 := 3#32
  let v1353 : BitVec 32 := Scalar.shrsi v1352 c3_i32_566
  let c8191_i32_567 : BitVec 32 := 8191#32
  let v1354 : BitVec 32 := Scalar.andi v1353 c8191_i32_567
  let v1362 : Index := Scalar.indexCast v1354
  let c0_571 : Index := 0#32
  ![v1362.toNat, 0]

def k0_chk594 (i : grid0.Coords) (v48 : BitVec 32) (v1352 : BitVec 32) : Prop :=
  (∀ (k0_h10 : k0_cond10 i v48 = 1#1), 8 ∣ (k0_mult588 v1352).toNat) ∧
  (∀ (k0_h10 : k0_cond10 i v48 = 1#1), ∀ a, (k0_off1550 v1352) a + S8x128.size a ≤ S65536x128.size a) ∧
  (∀ (k0_h10 : k0_cond10 i v48 = 1#1), ∀ a, (k0_off1551 v1352) a + S1x128.size a ≤ S8192x128.size a)
theorem k0_mult588_dvd : ∀ (i : grid0.Coords) (v48 : BitVec 32) (v1352 : BitVec 32) (k0_hw594 : k0_chk594 i v48 v1352), ∀ (k0_h10 : k0_cond10 i v48 = 1#1), 8 ∣ (k0_mult588 v1352).toNat := fun i v48 v1352 k0_hw594 k0_h10 => k0_hw594.1 k0_h10
theorem k0_off1550_inb : ∀ (i : grid0.Coords) (v48 : BitVec 32) (v1352 : BitVec 32) (k0_hw594 : k0_chk594 i v48 v1352), ∀ (k0_h10 : k0_cond10 i v48 = 1#1), ∀ a, (k0_off1550 v1352) a + S8x128.size a ≤ S65536x128.size a := fun i v48 v1352 k0_hw594 k0_h10 => k0_hw594.2.1 k0_h10
theorem k0_off1551_inb : ∀ (i : grid0.Coords) (v48 : BitVec 32) (v1352 : BitVec 32) (k0_hw594 : k0_chk594 i v48 v1352), ∀ (k0_h10 : k0_cond10 i v48 = 1#1), ∀ a, (k0_off1551 v1352) a + S1x128.size a ≤ S8192x128.size a := fun i v48 v1352 k0_hw594 k0_h10 => k0_hw594.2.2 k0_h10

def k0_off1552 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c76_i32 : BitVec 32 := 76#32
  let v1367 : BitVec 32 := Scalar.addi v74 c76_i32
  let v1368 : Index := Scalar.indexCast v1367
  ![v1368.toNat]
def k0_mult589 (v1369 : BitVec 32) : BitVec 32 :=
  let c3_i32_573 : BitVec 32 := 3#32
  let v1370 : BitVec 32 := Scalar.shrsi v1369 c3_i32_573
  let c8191_i32_574 : BitVec 32 := 8191#32
  let v1371 : BitVec 32 := Scalar.andi v1370 c8191_i32_574
  let c8_i32_575 : BitVec 32 := 8#32
  let v1372 : BitVec 32 := Scalar.muli v1371 c8_i32_575
  v1372

def k0_off1553 (v1369 : BitVec 32) : Fin 2 → Nat :=
  let c3_i32_573 : BitVec 32 := 3#32
  let v1370 : BitVec 32 := Scalar.shrsi v1369 c3_i32_573
  let c8191_i32_574 : BitVec 32 := 8191#32
  let v1371 : BitVec 32 := Scalar.andi v1370 c8191_i32_574
  let c8_i32_575 : BitVec 32 := 8#32
  let v1372 : BitVec 32 := Scalar.muli v1371 c8_i32_575
  let v1373 : BitVec 32 := v1372
  let v1374 : Index := Scalar.indexCast v1373
  let c0_576 : Index := 0#32
  ![v1374.toNat, 0]
def k0_off1554 (v1369 : BitVec 32) : Fin 2 → Nat :=
  let c3_i32_573 : BitVec 32 := 3#32
  let v1370 : BitVec 32 := Scalar.shrsi v1369 c3_i32_573
  let c8191_i32_574 : BitVec 32 := 8191#32
  let v1371 : BitVec 32 := Scalar.andi v1370 c8191_i32_574
  let v1379 : Index := Scalar.indexCast v1371
  let c0_578 : Index := 0#32
  ![v1379.toNat, 0]

def k0_chk595 (i : grid0.Coords) (v48 : BitVec 32) (v1369 : BitVec 32) : Prop :=
  (∀ (k0_h10 : k0_cond10 i v48 = 1#1), 8 ∣ (k0_mult589 v1369).toNat) ∧
  (∀ (k0_h10 : k0_cond10 i v48 = 1#1), ∀ a, (k0_off1553 v1369) a + S8x128.size a ≤ S65536x128.size a) ∧
  (∀ (k0_h10 : k0_cond10 i v48 = 1#1), ∀ a, (k0_off1554 v1369) a + S1x128.size a ≤ S8192x128.size a)
theorem k0_mult589_dvd : ∀ (i : grid0.Coords) (v48 : BitVec 32) (v1369 : BitVec 32) (k0_hw595 : k0_chk595 i v48 v1369), ∀ (k0_h10 : k0_cond10 i v48 = 1#1), 8 ∣ (k0_mult589 v1369).toNat := fun i v48 v1369 k0_hw595 k0_h10 => k0_hw595.1 k0_h10
theorem k0_off1553_inb : ∀ (i : grid0.Coords) (v48 : BitVec 32) (v1369 : BitVec 32) (k0_hw595 : k0_chk595 i v48 v1369), ∀ (k0_h10 : k0_cond10 i v48 = 1#1), ∀ a, (k0_off1553 v1369) a + S8x128.size a ≤ S65536x128.size a := fun i v48 v1369 k0_hw595 k0_h10 => k0_hw595.2.1 k0_h10
theorem k0_off1554_inb : ∀ (i : grid0.Coords) (v48 : BitVec 32) (v1369 : BitVec 32) (k0_hw595 : k0_chk595 i v48 v1369), ∀ (k0_h10 : k0_cond10 i v48 = 1#1), ∀ a, (k0_off1554 v1369) a + S1x128.size a ≤ S8192x128.size a := fun i v48 v1369 k0_hw595 k0_h10 => k0_hw595.2.2 k0_h10

def k0_off1555 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c77_i32 : BitVec 32 := 77#32
  let v1384 : BitVec 32 := Scalar.addi v74 c77_i32
  let v1385 : Index := Scalar.indexCast v1384
  ![v1385.toNat]
def k0_mult590 (v1386 : BitVec 32) : BitVec 32 :=
  let c3_i32_580 : BitVec 32 := 3#32
  let v1387 : BitVec 32 := Scalar.shrsi v1386 c3_i32_580
  let c8191_i32_581 : BitVec 32 := 8191#32
  let v1388 : BitVec 32 := Scalar.andi v1387 c8191_i32_581
  let c8_i32_582 : BitVec 32 := 8#32
  let v1389 : BitVec 32 := Scalar.muli v1388 c8_i32_582
  v1389

def k0_off1556 (v1386 : BitVec 32) : Fin 2 → Nat :=
  let c3_i32_580 : BitVec 32 := 3#32
  let v1387 : BitVec 32 := Scalar.shrsi v1386 c3_i32_580
  let c8191_i32_581 : BitVec 32 := 8191#32
  let v1388 : BitVec 32 := Scalar.andi v1387 c8191_i32_581
  let c8_i32_582 : BitVec 32 := 8#32
  let v1389 : BitVec 32 := Scalar.muli v1388 c8_i32_582
  let v1390 : BitVec 32 := v1389
  let v1391 : Index := Scalar.indexCast v1390
  let c0_583 : Index := 0#32
  ![v1391.toNat, 0]
def k0_off1557 (v1386 : BitVec 32) : Fin 2 → Nat :=
  let c3_i32_580 : BitVec 32 := 3#32
  let v1387 : BitVec 32 := Scalar.shrsi v1386 c3_i32_580
  let c8191_i32_581 : BitVec 32 := 8191#32
  let v1388 : BitVec 32 := Scalar.andi v1387 c8191_i32_581
  let v1396 : Index := Scalar.indexCast v1388
  let c0_585 : Index := 0#32
  ![v1396.toNat, 0]

def k0_chk596 (i : grid0.Coords) (v48 : BitVec 32) (v1386 : BitVec 32) : Prop :=
  (∀ (k0_h10 : k0_cond10 i v48 = 1#1), 8 ∣ (k0_mult590 v1386).toNat) ∧
  (∀ (k0_h10 : k0_cond10 i v48 = 1#1), ∀ a, (k0_off1556 v1386) a + S8x128.size a ≤ S65536x128.size a) ∧
  (∀ (k0_h10 : k0_cond10 i v48 = 1#1), ∀ a, (k0_off1557 v1386) a + S1x128.size a ≤ S8192x128.size a)
theorem k0_mult590_dvd : ∀ (i : grid0.Coords) (v48 : BitVec 32) (v1386 : BitVec 32) (k0_hw596 : k0_chk596 i v48 v1386), ∀ (k0_h10 : k0_cond10 i v48 = 1#1), 8 ∣ (k0_mult590 v1386).toNat := fun i v48 v1386 k0_hw596 k0_h10 => k0_hw596.1 k0_h10
theorem k0_off1556_inb : ∀ (i : grid0.Coords) (v48 : BitVec 32) (v1386 : BitVec 32) (k0_hw596 : k0_chk596 i v48 v1386), ∀ (k0_h10 : k0_cond10 i v48 = 1#1), ∀ a, (k0_off1556 v1386) a + S8x128.size a ≤ S65536x128.size a := fun i v48 v1386 k0_hw596 k0_h10 => k0_hw596.2.1 k0_h10
theorem k0_off1557_inb : ∀ (i : grid0.Coords) (v48 : BitVec 32) (v1386 : BitVec 32) (k0_hw596 : k0_chk596 i v48 v1386), ∀ (k0_h10 : k0_cond10 i v48 = 1#1), ∀ a, (k0_off1557 v1386) a + S1x128.size a ≤ S8192x128.size a := fun i v48 v1386 k0_hw596 k0_h10 => k0_hw596.2.2 k0_h10

def k0_off1558 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c78_i32 : BitVec 32 := 78#32
  let v1401 : BitVec 32 := Scalar.addi v74 c78_i32
  let v1402 : Index := Scalar.indexCast v1401
  ![v1402.toNat]
def k0_mult591 (v1403 : BitVec 32) : BitVec 32 :=
  let c3_i32_587 : BitVec 32 := 3#32
  let v1404 : BitVec 32 := Scalar.shrsi v1403 c3_i32_587
  let c8191_i32_588 : BitVec 32 := 8191#32
  let v1405 : BitVec 32 := Scalar.andi v1404 c8191_i32_588
  let c8_i32_589 : BitVec 32 := 8#32
  let v1406 : BitVec 32 := Scalar.muli v1405 c8_i32_589
  v1406

def k0_off1559 (v1403 : BitVec 32) : Fin 2 → Nat :=
  let c3_i32_587 : BitVec 32 := 3#32
  let v1404 : BitVec 32 := Scalar.shrsi v1403 c3_i32_587
  let c8191_i32_588 : BitVec 32 := 8191#32
  let v1405 : BitVec 32 := Scalar.andi v1404 c8191_i32_588
  let c8_i32_589 : BitVec 32 := 8#32
  let v1406 : BitVec 32 := Scalar.muli v1405 c8_i32_589
  let v1407 : BitVec 32 := v1406
  let v1408 : Index := Scalar.indexCast v1407
  let c0_590 : Index := 0#32
  ![v1408.toNat, 0]
def k0_off1560 (v1403 : BitVec 32) : Fin 2 → Nat :=
  let c3_i32_587 : BitVec 32 := 3#32
  let v1404 : BitVec 32 := Scalar.shrsi v1403 c3_i32_587
  let c8191_i32_588 : BitVec 32 := 8191#32
  let v1405 : BitVec 32 := Scalar.andi v1404 c8191_i32_588
  let v1413 : Index := Scalar.indexCast v1405
  let c0_592 : Index := 0#32
  ![v1413.toNat, 0]

def k0_chk597 (i : grid0.Coords) (v48 : BitVec 32) (v1403 : BitVec 32) : Prop :=
  (∀ (k0_h10 : k0_cond10 i v48 = 1#1), 8 ∣ (k0_mult591 v1403).toNat) ∧
  (∀ (k0_h10 : k0_cond10 i v48 = 1#1), ∀ a, (k0_off1559 v1403) a + S8x128.size a ≤ S65536x128.size a) ∧
  (∀ (k0_h10 : k0_cond10 i v48 = 1#1), ∀ a, (k0_off1560 v1403) a + S1x128.size a ≤ S8192x128.size a)
theorem k0_mult591_dvd : ∀ (i : grid0.Coords) (v48 : BitVec 32) (v1403 : BitVec 32) (k0_hw597 : k0_chk597 i v48 v1403), ∀ (k0_h10 : k0_cond10 i v48 = 1#1), 8 ∣ (k0_mult591 v1403).toNat := fun i v48 v1403 k0_hw597 k0_h10 => k0_hw597.1 k0_h10
theorem k0_off1559_inb : ∀ (i : grid0.Coords) (v48 : BitVec 32) (v1403 : BitVec 32) (k0_hw597 : k0_chk597 i v48 v1403), ∀ (k0_h10 : k0_cond10 i v48 = 1#1), ∀ a, (k0_off1559 v1403) a + S8x128.size a ≤ S65536x128.size a := fun i v48 v1403 k0_hw597 k0_h10 => k0_hw597.2.1 k0_h10
theorem k0_off1560_inb : ∀ (i : grid0.Coords) (v48 : BitVec 32) (v1403 : BitVec 32) (k0_hw597 : k0_chk597 i v48 v1403), ∀ (k0_h10 : k0_cond10 i v48 = 1#1), ∀ a, (k0_off1560 v1403) a + S1x128.size a ≤ S8192x128.size a := fun i v48 v1403 k0_hw597 k0_h10 => k0_hw597.2.2 k0_h10

def k0_off1561 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c79_i32 : BitVec 32 := 79#32
  let v1418 : BitVec 32 := Scalar.addi v74 c79_i32
  let v1419 : Index := Scalar.indexCast v1418
  ![v1419.toNat]
def k0_mult592 (v1420 : BitVec 32) : BitVec 32 :=
  let c3_i32_594 : BitVec 32 := 3#32
  let v1421 : BitVec 32 := Scalar.shrsi v1420 c3_i32_594
  let c8191_i32_595 : BitVec 32 := 8191#32
  let v1422 : BitVec 32 := Scalar.andi v1421 c8191_i32_595
  let c8_i32_596 : BitVec 32 := 8#32
  let v1423 : BitVec 32 := Scalar.muli v1422 c8_i32_596
  v1423

def k0_off1562 (v1420 : BitVec 32) : Fin 2 → Nat :=
  let c3_i32_594 : BitVec 32 := 3#32
  let v1421 : BitVec 32 := Scalar.shrsi v1420 c3_i32_594
  let c8191_i32_595 : BitVec 32 := 8191#32
  let v1422 : BitVec 32 := Scalar.andi v1421 c8191_i32_595
  let c8_i32_596 : BitVec 32 := 8#32
  let v1423 : BitVec 32 := Scalar.muli v1422 c8_i32_596
  let v1424 : BitVec 32 := v1423
  let v1425 : Index := Scalar.indexCast v1424
  let c0_597 : Index := 0#32
  ![v1425.toNat, 0]
def k0_off1563 (v1420 : BitVec 32) : Fin 2 → Nat :=
  let c3_i32_594 : BitVec 32 := 3#32
  let v1421 : BitVec 32 := Scalar.shrsi v1420 c3_i32_594
  let c8191_i32_595 : BitVec 32 := 8191#32
  let v1422 : BitVec 32 := Scalar.andi v1421 c8191_i32_595
  let v1430 : Index := Scalar.indexCast v1422
  let c0_599 : Index := 0#32
  ![v1430.toNat, 0]

def k0_chk598 (i : grid0.Coords) (v48 : BitVec 32) (v1420 : BitVec 32) : Prop :=
  (∀ (k0_h10 : k0_cond10 i v48 = 1#1), 8 ∣ (k0_mult592 v1420).toNat) ∧
  (∀ (k0_h10 : k0_cond10 i v48 = 1#1), ∀ a, (k0_off1562 v1420) a + S8x128.size a ≤ S65536x128.size a) ∧
  (∀ (k0_h10 : k0_cond10 i v48 = 1#1), ∀ a, (k0_off1563 v1420) a + S1x128.size a ≤ S8192x128.size a)
theorem k0_mult592_dvd : ∀ (i : grid0.Coords) (v48 : BitVec 32) (v1420 : BitVec 32) (k0_hw598 : k0_chk598 i v48 v1420), ∀ (k0_h10 : k0_cond10 i v48 = 1#1), 8 ∣ (k0_mult592 v1420).toNat := fun i v48 v1420 k0_hw598 k0_h10 => k0_hw598.1 k0_h10
theorem k0_off1562_inb : ∀ (i : grid0.Coords) (v48 : BitVec 32) (v1420 : BitVec 32) (k0_hw598 : k0_chk598 i v48 v1420), ∀ (k0_h10 : k0_cond10 i v48 = 1#1), ∀ a, (k0_off1562 v1420) a + S8x128.size a ≤ S65536x128.size a := fun i v48 v1420 k0_hw598 k0_h10 => k0_hw598.2.1 k0_h10
theorem k0_off1563_inb : ∀ (i : grid0.Coords) (v48 : BitVec 32) (v1420 : BitVec 32) (k0_hw598 : k0_chk598 i v48 v1420), ∀ (k0_h10 : k0_cond10 i v48 = 1#1), ∀ a, (k0_off1563 v1420) a + S1x128.size a ≤ S8192x128.size a := fun i v48 v1420 k0_hw598 k0_h10 => k0_hw598.2.2 k0_h10

def k0_off1564 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c80_i32 : BitVec 32 := 80#32
  let v1435 : BitVec 32 := Scalar.addi v74 c80_i32
  let v1436 : Index := Scalar.indexCast v1435
  ![v1436.toNat]
def k0_mult593 (v1437 : BitVec 32) : BitVec 32 :=
  let c3_i32_601 : BitVec 32 := 3#32
  let v1438 : BitVec 32 := Scalar.shrsi v1437 c3_i32_601
  let c8191_i32_602 : BitVec 32 := 8191#32
  let v1439 : BitVec 32 := Scalar.andi v1438 c8191_i32_602
  let c8_i32_603 : BitVec 32 := 8#32
  let v1440 : BitVec 32 := Scalar.muli v1439 c8_i32_603
  v1440

def k0_off1565 (v1437 : BitVec 32) : Fin 2 → Nat :=
  let c3_i32_601 : BitVec 32 := 3#32
  let v1438 : BitVec 32 := Scalar.shrsi v1437 c3_i32_601
  let c8191_i32_602 : BitVec 32 := 8191#32
  let v1439 : BitVec 32 := Scalar.andi v1438 c8191_i32_602
  let c8_i32_603 : BitVec 32 := 8#32
  let v1440 : BitVec 32 := Scalar.muli v1439 c8_i32_603
  let v1441 : BitVec 32 := v1440
  let v1442 : Index := Scalar.indexCast v1441
  let c0_604 : Index := 0#32
  ![v1442.toNat, 0]
def k0_off1566 (v1437 : BitVec 32) : Fin 2 → Nat :=
  let c3_i32_601 : BitVec 32 := 3#32
  let v1438 : BitVec 32 := Scalar.shrsi v1437 c3_i32_601
  let c8191_i32_602 : BitVec 32 := 8191#32
  let v1439 : BitVec 32 := Scalar.andi v1438 c8191_i32_602
  let v1447 : Index := Scalar.indexCast v1439
  let c0_606 : Index := 0#32
  ![v1447.toNat, 0]

def k0_chk599 (i : grid0.Coords) (v48 : BitVec 32) (v1437 : BitVec 32) : Prop :=
  (∀ (k0_h10 : k0_cond10 i v48 = 1#1), 8 ∣ (k0_mult593 v1437).toNat) ∧
  (∀ (k0_h10 : k0_cond10 i v48 = 1#1), ∀ a, (k0_off1565 v1437) a + S8x128.size a ≤ S65536x128.size a) ∧
  (∀ (k0_h10 : k0_cond10 i v48 = 1#1), ∀ a, (k0_off1566 v1437) a + S1x128.size a ≤ S8192x128.size a)
theorem k0_mult593_dvd : ∀ (i : grid0.Coords) (v48 : BitVec 32) (v1437 : BitVec 32) (k0_hw599 : k0_chk599 i v48 v1437), ∀ (k0_h10 : k0_cond10 i v48 = 1#1), 8 ∣ (k0_mult593 v1437).toNat := fun i v48 v1437 k0_hw599 k0_h10 => k0_hw599.1 k0_h10
theorem k0_off1565_inb : ∀ (i : grid0.Coords) (v48 : BitVec 32) (v1437 : BitVec 32) (k0_hw599 : k0_chk599 i v48 v1437), ∀ (k0_h10 : k0_cond10 i v48 = 1#1), ∀ a, (k0_off1565 v1437) a + S8x128.size a ≤ S65536x128.size a := fun i v48 v1437 k0_hw599 k0_h10 => k0_hw599.2.1 k0_h10
theorem k0_off1566_inb : ∀ (i : grid0.Coords) (v48 : BitVec 32) (v1437 : BitVec 32) (k0_hw599 : k0_chk599 i v48 v1437), ∀ (k0_h10 : k0_cond10 i v48 = 1#1), ∀ a, (k0_off1566 v1437) a + S1x128.size a ≤ S8192x128.size a := fun i v48 v1437 k0_hw599 k0_h10 => k0_hw599.2.2 k0_h10

def k0_off1567 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c81_i32 : BitVec 32 := 81#32
  let v1452 : BitVec 32 := Scalar.addi v74 c81_i32
  let v1453 : Index := Scalar.indexCast v1452
  ![v1453.toNat]
def k0_mult594 (v1454 : BitVec 32) : BitVec 32 :=
  let c3_i32_609 : BitVec 32 := 3#32
  let v1455 : BitVec 32 := Scalar.shrsi v1454 c3_i32_609
  let c8191_i32_610 : BitVec 32 := 8191#32
  let v1456 : BitVec 32 := Scalar.andi v1455 c8191_i32_610
  let c8_i32_611 : BitVec 32 := 8#32
  let v1457 : BitVec 32 := Scalar.muli v1456 c8_i32_611
  v1457

def k0_off1568 (v1454 : BitVec 32) : Fin 2 → Nat :=
  let c3_i32_609 : BitVec 32 := 3#32
  let v1455 : BitVec 32 := Scalar.shrsi v1454 c3_i32_609
  let c8191_i32_610 : BitVec 32 := 8191#32
  let v1456 : BitVec 32 := Scalar.andi v1455 c8191_i32_610
  let c8_i32_611 : BitVec 32 := 8#32
  let v1457 : BitVec 32 := Scalar.muli v1456 c8_i32_611
  let v1458 : BitVec 32 := v1457
  let v1459 : Index := Scalar.indexCast v1458
  let c0_612 : Index := 0#32
  ![v1459.toNat, 0]
def k0_off1569 (v1454 : BitVec 32) : Fin 2 → Nat :=
  let c3_i32_609 : BitVec 32 := 3#32
  let v1455 : BitVec 32 := Scalar.shrsi v1454 c3_i32_609
  let c8191_i32_610 : BitVec 32 := 8191#32
  let v1456 : BitVec 32 := Scalar.andi v1455 c8191_i32_610
  let v1464 : Index := Scalar.indexCast v1456
  let c0_614 : Index := 0#32
  ![v1464.toNat, 0]

def k0_chk600 (i : grid0.Coords) (v48 : BitVec 32) (v1454 : BitVec 32) : Prop :=
  (∀ (k0_h10 : k0_cond10 i v48 = 1#1), 8 ∣ (k0_mult594 v1454).toNat) ∧
  (∀ (k0_h10 : k0_cond10 i v48 = 1#1), ∀ a, (k0_off1568 v1454) a + S8x128.size a ≤ S65536x128.size a) ∧
  (∀ (k0_h10 : k0_cond10 i v48 = 1#1), ∀ a, (k0_off1569 v1454) a + S1x128.size a ≤ S8192x128.size a)
theorem k0_mult594_dvd : ∀ (i : grid0.Coords) (v48 : BitVec 32) (v1454 : BitVec 32) (k0_hw600 : k0_chk600 i v48 v1454), ∀ (k0_h10 : k0_cond10 i v48 = 1#1), 8 ∣ (k0_mult594 v1454).toNat := fun i v48 v1454 k0_hw600 k0_h10 => k0_hw600.1 k0_h10
theorem k0_off1568_inb : ∀ (i : grid0.Coords) (v48 : BitVec 32) (v1454 : BitVec 32) (k0_hw600 : k0_chk600 i v48 v1454), ∀ (k0_h10 : k0_cond10 i v48 = 1#1), ∀ a, (k0_off1568 v1454) a + S8x128.size a ≤ S65536x128.size a := fun i v48 v1454 k0_hw600 k0_h10 => k0_hw600.2.1 k0_h10
theorem k0_off1569_inb : ∀ (i : grid0.Coords) (v48 : BitVec 32) (v1454 : BitVec 32) (k0_hw600 : k0_chk600 i v48 v1454), ∀ (k0_h10 : k0_cond10 i v48 = 1#1), ∀ a, (k0_off1569 v1454) a + S1x128.size a ≤ S8192x128.size a := fun i v48 v1454 k0_hw600 k0_h10 => k0_hw600.2.2 k0_h10

def k0_off1570 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c82_i32 : BitVec 32 := 82#32
  let v1469 : BitVec 32 := Scalar.addi v74 c82_i32
  let v1470 : Index := Scalar.indexCast v1469
  ![v1470.toNat]
def k0_mult595 (v1471 : BitVec 32) : BitVec 32 :=
  let c3_i32_616 : BitVec 32 := 3#32
  let v1472 : BitVec 32 := Scalar.shrsi v1471 c3_i32_616
  let c8191_i32_617 : BitVec 32 := 8191#32
  let v1473 : BitVec 32 := Scalar.andi v1472 c8191_i32_617
  let c8_i32_618 : BitVec 32 := 8#32
  let v1474 : BitVec 32 := Scalar.muli v1473 c8_i32_618
  v1474

def k0_off1571 (v1471 : BitVec 32) : Fin 2 → Nat :=
  let c3_i32_616 : BitVec 32 := 3#32
  let v1472 : BitVec 32 := Scalar.shrsi v1471 c3_i32_616
  let c8191_i32_617 : BitVec 32 := 8191#32
  let v1473 : BitVec 32 := Scalar.andi v1472 c8191_i32_617
  let c8_i32_618 : BitVec 32 := 8#32
  let v1474 : BitVec 32 := Scalar.muli v1473 c8_i32_618
  let v1475 : BitVec 32 := v1474
  let v1476 : Index := Scalar.indexCast v1475
  let c0_619 : Index := 0#32
  ![v1476.toNat, 0]
def k0_off1572 (v1471 : BitVec 32) : Fin 2 → Nat :=
  let c3_i32_616 : BitVec 32 := 3#32
  let v1472 : BitVec 32 := Scalar.shrsi v1471 c3_i32_616
  let c8191_i32_617 : BitVec 32 := 8191#32
  let v1473 : BitVec 32 := Scalar.andi v1472 c8191_i32_617
  let v1481 : Index := Scalar.indexCast v1473
  let c0_621 : Index := 0#32
  ![v1481.toNat, 0]

def k0_chk601 (i : grid0.Coords) (v48 : BitVec 32) (v1471 : BitVec 32) : Prop :=
  (∀ (k0_h10 : k0_cond10 i v48 = 1#1), 8 ∣ (k0_mult595 v1471).toNat) ∧
  (∀ (k0_h10 : k0_cond10 i v48 = 1#1), ∀ a, (k0_off1571 v1471) a + S8x128.size a ≤ S65536x128.size a) ∧
  (∀ (k0_h10 : k0_cond10 i v48 = 1#1), ∀ a, (k0_off1572 v1471) a + S1x128.size a ≤ S8192x128.size a)
theorem k0_mult595_dvd : ∀ (i : grid0.Coords) (v48 : BitVec 32) (v1471 : BitVec 32) (k0_hw601 : k0_chk601 i v48 v1471), ∀ (k0_h10 : k0_cond10 i v48 = 1#1), 8 ∣ (k0_mult595 v1471).toNat := fun i v48 v1471 k0_hw601 k0_h10 => k0_hw601.1 k0_h10
theorem k0_off1571_inb : ∀ (i : grid0.Coords) (v48 : BitVec 32) (v1471 : BitVec 32) (k0_hw601 : k0_chk601 i v48 v1471), ∀ (k0_h10 : k0_cond10 i v48 = 1#1), ∀ a, (k0_off1571 v1471) a + S8x128.size a ≤ S65536x128.size a := fun i v48 v1471 k0_hw601 k0_h10 => k0_hw601.2.1 k0_h10
theorem k0_off1572_inb : ∀ (i : grid0.Coords) (v48 : BitVec 32) (v1471 : BitVec 32) (k0_hw601 : k0_chk601 i v48 v1471), ∀ (k0_h10 : k0_cond10 i v48 = 1#1), ∀ a, (k0_off1572 v1471) a + S1x128.size a ≤ S8192x128.size a := fun i v48 v1471 k0_hw601 k0_h10 => k0_hw601.2.2 k0_h10

def k0_off1573 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c83_i32 : BitVec 32 := 83#32
  let v1486 : BitVec 32 := Scalar.addi v74 c83_i32
  let v1487 : Index := Scalar.indexCast v1486
  ![v1487.toNat]
def k0_mult596 (v1488 : BitVec 32) : BitVec 32 :=
  let c3_i32_623 : BitVec 32 := 3#32
  let v1489 : BitVec 32 := Scalar.shrsi v1488 c3_i32_623
  let c8191_i32_624 : BitVec 32 := 8191#32
  let v1490 : BitVec 32 := Scalar.andi v1489 c8191_i32_624
  let c8_i32_625 : BitVec 32 := 8#32
  let v1491 : BitVec 32 := Scalar.muli v1490 c8_i32_625
  v1491

def k0_off1574 (v1488 : BitVec 32) : Fin 2 → Nat :=
  let c3_i32_623 : BitVec 32 := 3#32
  let v1489 : BitVec 32 := Scalar.shrsi v1488 c3_i32_623
  let c8191_i32_624 : BitVec 32 := 8191#32
  let v1490 : BitVec 32 := Scalar.andi v1489 c8191_i32_624
  let c8_i32_625 : BitVec 32 := 8#32
  let v1491 : BitVec 32 := Scalar.muli v1490 c8_i32_625
  let v1492 : BitVec 32 := v1491
  let v1493 : Index := Scalar.indexCast v1492
  let c0_626 : Index := 0#32
  ![v1493.toNat, 0]
def k0_off1575 (v1488 : BitVec 32) : Fin 2 → Nat :=
  let c3_i32_623 : BitVec 32 := 3#32
  let v1489 : BitVec 32 := Scalar.shrsi v1488 c3_i32_623
  let c8191_i32_624 : BitVec 32 := 8191#32
  let v1490 : BitVec 32 := Scalar.andi v1489 c8191_i32_624
  let v1498 : Index := Scalar.indexCast v1490
  let c0_628 : Index := 0#32
  ![v1498.toNat, 0]

def k0_chk602 (i : grid0.Coords) (v48 : BitVec 32) (v1488 : BitVec 32) : Prop :=
  (∀ (k0_h10 : k0_cond10 i v48 = 1#1), 8 ∣ (k0_mult596 v1488).toNat) ∧
  (∀ (k0_h10 : k0_cond10 i v48 = 1#1), ∀ a, (k0_off1574 v1488) a + S8x128.size a ≤ S65536x128.size a) ∧
  (∀ (k0_h10 : k0_cond10 i v48 = 1#1), ∀ a, (k0_off1575 v1488) a + S1x128.size a ≤ S8192x128.size a)
theorem k0_mult596_dvd : ∀ (i : grid0.Coords) (v48 : BitVec 32) (v1488 : BitVec 32) (k0_hw602 : k0_chk602 i v48 v1488), ∀ (k0_h10 : k0_cond10 i v48 = 1#1), 8 ∣ (k0_mult596 v1488).toNat := fun i v48 v1488 k0_hw602 k0_h10 => k0_hw602.1 k0_h10
theorem k0_off1574_inb : ∀ (i : grid0.Coords) (v48 : BitVec 32) (v1488 : BitVec 32) (k0_hw602 : k0_chk602 i v48 v1488), ∀ (k0_h10 : k0_cond10 i v48 = 1#1), ∀ a, (k0_off1574 v1488) a + S8x128.size a ≤ S65536x128.size a := fun i v48 v1488 k0_hw602 k0_h10 => k0_hw602.2.1 k0_h10
theorem k0_off1575_inb : ∀ (i : grid0.Coords) (v48 : BitVec 32) (v1488 : BitVec 32) (k0_hw602 : k0_chk602 i v48 v1488), ∀ (k0_h10 : k0_cond10 i v48 = 1#1), ∀ a, (k0_off1575 v1488) a + S1x128.size a ≤ S8192x128.size a := fun i v48 v1488 k0_hw602 k0_h10 => k0_hw602.2.2 k0_h10

def k0_off1576 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c84_i32 : BitVec 32 := 84#32
  let v1503 : BitVec 32 := Scalar.addi v74 c84_i32
  let v1504 : Index := Scalar.indexCast v1503
  ![v1504.toNat]
def k0_mult597 (v1505 : BitVec 32) : BitVec 32 :=
  let c3_i32_630 : BitVec 32 := 3#32
  let v1506 : BitVec 32 := Scalar.shrsi v1505 c3_i32_630
  let c8191_i32_631 : BitVec 32 := 8191#32
  let v1507 : BitVec 32 := Scalar.andi v1506 c8191_i32_631
  let c8_i32_632 : BitVec 32 := 8#32
  let v1508 : BitVec 32 := Scalar.muli v1507 c8_i32_632
  v1508

def k0_off1577 (v1505 : BitVec 32) : Fin 2 → Nat :=
  let c3_i32_630 : BitVec 32 := 3#32
  let v1506 : BitVec 32 := Scalar.shrsi v1505 c3_i32_630
  let c8191_i32_631 : BitVec 32 := 8191#32
  let v1507 : BitVec 32 := Scalar.andi v1506 c8191_i32_631
  let c8_i32_632 : BitVec 32 := 8#32
  let v1508 : BitVec 32 := Scalar.muli v1507 c8_i32_632
  let v1509 : BitVec 32 := v1508
  let v1510 : Index := Scalar.indexCast v1509
  let c0_633 : Index := 0#32
  ![v1510.toNat, 0]
def k0_off1578 (v1505 : BitVec 32) : Fin 2 → Nat :=
  let c3_i32_630 : BitVec 32 := 3#32
  let v1506 : BitVec 32 := Scalar.shrsi v1505 c3_i32_630
  let c8191_i32_631 : BitVec 32 := 8191#32
  let v1507 : BitVec 32 := Scalar.andi v1506 c8191_i32_631
  let v1515 : Index := Scalar.indexCast v1507
  let c0_635 : Index := 0#32
  ![v1515.toNat, 0]

def k0_chk603 (i : grid0.Coords) (v48 : BitVec 32) (v1505 : BitVec 32) : Prop :=
  (∀ (k0_h10 : k0_cond10 i v48 = 1#1), 8 ∣ (k0_mult597 v1505).toNat) ∧
  (∀ (k0_h10 : k0_cond10 i v48 = 1#1), ∀ a, (k0_off1577 v1505) a + S8x128.size a ≤ S65536x128.size a) ∧
  (∀ (k0_h10 : k0_cond10 i v48 = 1#1), ∀ a, (k0_off1578 v1505) a + S1x128.size a ≤ S8192x128.size a)
theorem k0_mult597_dvd : ∀ (i : grid0.Coords) (v48 : BitVec 32) (v1505 : BitVec 32) (k0_hw603 : k0_chk603 i v48 v1505), ∀ (k0_h10 : k0_cond10 i v48 = 1#1), 8 ∣ (k0_mult597 v1505).toNat := fun i v48 v1505 k0_hw603 k0_h10 => k0_hw603.1 k0_h10
theorem k0_off1577_inb : ∀ (i : grid0.Coords) (v48 : BitVec 32) (v1505 : BitVec 32) (k0_hw603 : k0_chk603 i v48 v1505), ∀ (k0_h10 : k0_cond10 i v48 = 1#1), ∀ a, (k0_off1577 v1505) a + S8x128.size a ≤ S65536x128.size a := fun i v48 v1505 k0_hw603 k0_h10 => k0_hw603.2.1 k0_h10
theorem k0_off1578_inb : ∀ (i : grid0.Coords) (v48 : BitVec 32) (v1505 : BitVec 32) (k0_hw603 : k0_chk603 i v48 v1505), ∀ (k0_h10 : k0_cond10 i v48 = 1#1), ∀ a, (k0_off1578 v1505) a + S1x128.size a ≤ S8192x128.size a := fun i v48 v1505 k0_hw603 k0_h10 => k0_hw603.2.2 k0_h10

def k0_off1579 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c85_i32 : BitVec 32 := 85#32
  let v1520 : BitVec 32 := Scalar.addi v74 c85_i32
  let v1521 : Index := Scalar.indexCast v1520
  ![v1521.toNat]
def k0_mult598 (v1522 : BitVec 32) : BitVec 32 :=
  let c3_i32_637 : BitVec 32 := 3#32
  let v1523 : BitVec 32 := Scalar.shrsi v1522 c3_i32_637
  let c8191_i32_638 : BitVec 32 := 8191#32
  let v1524 : BitVec 32 := Scalar.andi v1523 c8191_i32_638
  let c8_i32_639 : BitVec 32 := 8#32
  let v1525 : BitVec 32 := Scalar.muli v1524 c8_i32_639
  v1525

def k0_off1580 (v1522 : BitVec 32) : Fin 2 → Nat :=
  let c3_i32_637 : BitVec 32 := 3#32
  let v1523 : BitVec 32 := Scalar.shrsi v1522 c3_i32_637
  let c8191_i32_638 : BitVec 32 := 8191#32
  let v1524 : BitVec 32 := Scalar.andi v1523 c8191_i32_638
  let c8_i32_639 : BitVec 32 := 8#32
  let v1525 : BitVec 32 := Scalar.muli v1524 c8_i32_639
  let v1526 : BitVec 32 := v1525
  let v1527 : Index := Scalar.indexCast v1526
  let c0_640 : Index := 0#32
  ![v1527.toNat, 0]
def k0_off1581 (v1522 : BitVec 32) : Fin 2 → Nat :=
  let c3_i32_637 : BitVec 32 := 3#32
  let v1523 : BitVec 32 := Scalar.shrsi v1522 c3_i32_637
  let c8191_i32_638 : BitVec 32 := 8191#32
  let v1524 : BitVec 32 := Scalar.andi v1523 c8191_i32_638
  let v1532 : Index := Scalar.indexCast v1524
  let c0_642 : Index := 0#32
  ![v1532.toNat, 0]

def k0_chk604 (i : grid0.Coords) (v48 : BitVec 32) (v1522 : BitVec 32) : Prop :=
  (∀ (k0_h10 : k0_cond10 i v48 = 1#1), 8 ∣ (k0_mult598 v1522).toNat) ∧
  (∀ (k0_h10 : k0_cond10 i v48 = 1#1), ∀ a, (k0_off1580 v1522) a + S8x128.size a ≤ S65536x128.size a) ∧
  (∀ (k0_h10 : k0_cond10 i v48 = 1#1), ∀ a, (k0_off1581 v1522) a + S1x128.size a ≤ S8192x128.size a)
theorem k0_mult598_dvd : ∀ (i : grid0.Coords) (v48 : BitVec 32) (v1522 : BitVec 32) (k0_hw604 : k0_chk604 i v48 v1522), ∀ (k0_h10 : k0_cond10 i v48 = 1#1), 8 ∣ (k0_mult598 v1522).toNat := fun i v48 v1522 k0_hw604 k0_h10 => k0_hw604.1 k0_h10
theorem k0_off1580_inb : ∀ (i : grid0.Coords) (v48 : BitVec 32) (v1522 : BitVec 32) (k0_hw604 : k0_chk604 i v48 v1522), ∀ (k0_h10 : k0_cond10 i v48 = 1#1), ∀ a, (k0_off1580 v1522) a + S8x128.size a ≤ S65536x128.size a := fun i v48 v1522 k0_hw604 k0_h10 => k0_hw604.2.1 k0_h10
theorem k0_off1581_inb : ∀ (i : grid0.Coords) (v48 : BitVec 32) (v1522 : BitVec 32) (k0_hw604 : k0_chk604 i v48 v1522), ∀ (k0_h10 : k0_cond10 i v48 = 1#1), ∀ a, (k0_off1581 v1522) a + S1x128.size a ≤ S8192x128.size a := fun i v48 v1522 k0_hw604 k0_h10 => k0_hw604.2.2 k0_h10

def k0_off1582 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c86_i32 : BitVec 32 := 86#32
  let v1537 : BitVec 32 := Scalar.addi v74 c86_i32
  let v1538 : Index := Scalar.indexCast v1537
  ![v1538.toNat]
def k0_mult599 (v1539 : BitVec 32) : BitVec 32 :=
  let c3_i32_644 : BitVec 32 := 3#32
  let v1540 : BitVec 32 := Scalar.shrsi v1539 c3_i32_644
  let c8191_i32_645 : BitVec 32 := 8191#32
  let v1541 : BitVec 32 := Scalar.andi v1540 c8191_i32_645
  let c8_i32_646 : BitVec 32 := 8#32
  let v1542 : BitVec 32 := Scalar.muli v1541 c8_i32_646
  v1542

def k0_off1583 (v1539 : BitVec 32) : Fin 2 → Nat :=
  let c3_i32_644 : BitVec 32 := 3#32
  let v1540 : BitVec 32 := Scalar.shrsi v1539 c3_i32_644
  let c8191_i32_645 : BitVec 32 := 8191#32
  let v1541 : BitVec 32 := Scalar.andi v1540 c8191_i32_645
  let c8_i32_646 : BitVec 32 := 8#32
  let v1542 : BitVec 32 := Scalar.muli v1541 c8_i32_646
  let v1543 : BitVec 32 := v1542
  let v1544 : Index := Scalar.indexCast v1543
  let c0_647 : Index := 0#32
  ![v1544.toNat, 0]
def k0_off1584 (v1539 : BitVec 32) : Fin 2 → Nat :=
  let c3_i32_644 : BitVec 32 := 3#32
  let v1540 : BitVec 32 := Scalar.shrsi v1539 c3_i32_644
  let c8191_i32_645 : BitVec 32 := 8191#32
  let v1541 : BitVec 32 := Scalar.andi v1540 c8191_i32_645
  let v1549 : Index := Scalar.indexCast v1541
  let c0_649 : Index := 0#32
  ![v1549.toNat, 0]

def k0_chk605 (i : grid0.Coords) (v48 : BitVec 32) (v1539 : BitVec 32) : Prop :=
  (∀ (k0_h10 : k0_cond10 i v48 = 1#1), 8 ∣ (k0_mult599 v1539).toNat) ∧
  (∀ (k0_h10 : k0_cond10 i v48 = 1#1), ∀ a, (k0_off1583 v1539) a + S8x128.size a ≤ S65536x128.size a) ∧
  (∀ (k0_h10 : k0_cond10 i v48 = 1#1), ∀ a, (k0_off1584 v1539) a + S1x128.size a ≤ S8192x128.size a)
theorem k0_mult599_dvd : ∀ (i : grid0.Coords) (v48 : BitVec 32) (v1539 : BitVec 32) (k0_hw605 : k0_chk605 i v48 v1539), ∀ (k0_h10 : k0_cond10 i v48 = 1#1), 8 ∣ (k0_mult599 v1539).toNat := fun i v48 v1539 k0_hw605 k0_h10 => k0_hw605.1 k0_h10
theorem k0_off1583_inb : ∀ (i : grid0.Coords) (v48 : BitVec 32) (v1539 : BitVec 32) (k0_hw605 : k0_chk605 i v48 v1539), ∀ (k0_h10 : k0_cond10 i v48 = 1#1), ∀ a, (k0_off1583 v1539) a + S8x128.size a ≤ S65536x128.size a := fun i v48 v1539 k0_hw605 k0_h10 => k0_hw605.2.1 k0_h10
theorem k0_off1584_inb : ∀ (i : grid0.Coords) (v48 : BitVec 32) (v1539 : BitVec 32) (k0_hw605 : k0_chk605 i v48 v1539), ∀ (k0_h10 : k0_cond10 i v48 = 1#1), ∀ a, (k0_off1584 v1539) a + S1x128.size a ≤ S8192x128.size a := fun i v48 v1539 k0_hw605 k0_h10 => k0_hw605.2.2 k0_h10

def k0_off1585 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c87_i32 : BitVec 32 := 87#32
  let v1554 : BitVec 32 := Scalar.addi v74 c87_i32
  let v1555 : Index := Scalar.indexCast v1554
  ![v1555.toNat]
def k0_mult600 (v1556 : BitVec 32) : BitVec 32 :=
  let c3_i32_651 : BitVec 32 := 3#32
  let v1557 : BitVec 32 := Scalar.shrsi v1556 c3_i32_651
  let c8191_i32_652 : BitVec 32 := 8191#32
  let v1558 : BitVec 32 := Scalar.andi v1557 c8191_i32_652
  let c8_i32_653 : BitVec 32 := 8#32
  let v1559 : BitVec 32 := Scalar.muli v1558 c8_i32_653
  v1559

def k0_off1586 (v1556 : BitVec 32) : Fin 2 → Nat :=
  let c3_i32_651 : BitVec 32 := 3#32
  let v1557 : BitVec 32 := Scalar.shrsi v1556 c3_i32_651
  let c8191_i32_652 : BitVec 32 := 8191#32
  let v1558 : BitVec 32 := Scalar.andi v1557 c8191_i32_652
  let c8_i32_653 : BitVec 32 := 8#32
  let v1559 : BitVec 32 := Scalar.muli v1558 c8_i32_653
  let v1560 : BitVec 32 := v1559
  let v1561 : Index := Scalar.indexCast v1560
  let c0_654 : Index := 0#32
  ![v1561.toNat, 0]
def k0_off1587 (v1556 : BitVec 32) : Fin 2 → Nat :=
  let c3_i32_651 : BitVec 32 := 3#32
  let v1557 : BitVec 32 := Scalar.shrsi v1556 c3_i32_651
  let c8191_i32_652 : BitVec 32 := 8191#32
  let v1558 : BitVec 32 := Scalar.andi v1557 c8191_i32_652
  let v1566 : Index := Scalar.indexCast v1558
  let c0_656 : Index := 0#32
  ![v1566.toNat, 0]

def k0_chk606 (i : grid0.Coords) (v48 : BitVec 32) (v1556 : BitVec 32) : Prop :=
  (∀ (k0_h10 : k0_cond10 i v48 = 1#1), 8 ∣ (k0_mult600 v1556).toNat) ∧
  (∀ (k0_h10 : k0_cond10 i v48 = 1#1), ∀ a, (k0_off1586 v1556) a + S8x128.size a ≤ S65536x128.size a) ∧
  (∀ (k0_h10 : k0_cond10 i v48 = 1#1), ∀ a, (k0_off1587 v1556) a + S1x128.size a ≤ S8192x128.size a)
theorem k0_mult600_dvd : ∀ (i : grid0.Coords) (v48 : BitVec 32) (v1556 : BitVec 32) (k0_hw606 : k0_chk606 i v48 v1556), ∀ (k0_h10 : k0_cond10 i v48 = 1#1), 8 ∣ (k0_mult600 v1556).toNat := fun i v48 v1556 k0_hw606 k0_h10 => k0_hw606.1 k0_h10
theorem k0_off1586_inb : ∀ (i : grid0.Coords) (v48 : BitVec 32) (v1556 : BitVec 32) (k0_hw606 : k0_chk606 i v48 v1556), ∀ (k0_h10 : k0_cond10 i v48 = 1#1), ∀ a, (k0_off1586 v1556) a + S8x128.size a ≤ S65536x128.size a := fun i v48 v1556 k0_hw606 k0_h10 => k0_hw606.2.1 k0_h10
theorem k0_off1587_inb : ∀ (i : grid0.Coords) (v48 : BitVec 32) (v1556 : BitVec 32) (k0_hw606 : k0_chk606 i v48 v1556), ∀ (k0_h10 : k0_cond10 i v48 = 1#1), ∀ a, (k0_off1587 v1556) a + S1x128.size a ≤ S8192x128.size a := fun i v48 v1556 k0_hw606 k0_h10 => k0_hw606.2.2 k0_h10

def k0_off1588 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c88_i32 : BitVec 32 := 88#32
  let v1571 : BitVec 32 := Scalar.addi v74 c88_i32
  let v1572 : Index := Scalar.indexCast v1571
  ![v1572.toNat]
def k0_mult601 (v1573 : BitVec 32) : BitVec 32 :=
  let c3_i32_658 : BitVec 32 := 3#32
  let v1574 : BitVec 32 := Scalar.shrsi v1573 c3_i32_658
  let c8191_i32_659 : BitVec 32 := 8191#32
  let v1575 : BitVec 32 := Scalar.andi v1574 c8191_i32_659
  let c8_i32_660 : BitVec 32 := 8#32
  let v1576 : BitVec 32 := Scalar.muli v1575 c8_i32_660
  v1576

def k0_off1589 (v1573 : BitVec 32) : Fin 2 → Nat :=
  let c3_i32_658 : BitVec 32 := 3#32
  let v1574 : BitVec 32 := Scalar.shrsi v1573 c3_i32_658
  let c8191_i32_659 : BitVec 32 := 8191#32
  let v1575 : BitVec 32 := Scalar.andi v1574 c8191_i32_659
  let c8_i32_660 : BitVec 32 := 8#32
  let v1576 : BitVec 32 := Scalar.muli v1575 c8_i32_660
  let v1577 : BitVec 32 := v1576
  let v1578 : Index := Scalar.indexCast v1577
  let c0_661 : Index := 0#32
  ![v1578.toNat, 0]
def k0_off1590 (v1573 : BitVec 32) : Fin 2 → Nat :=
  let c3_i32_658 : BitVec 32 := 3#32
  let v1574 : BitVec 32 := Scalar.shrsi v1573 c3_i32_658
  let c8191_i32_659 : BitVec 32 := 8191#32
  let v1575 : BitVec 32 := Scalar.andi v1574 c8191_i32_659
  let v1583 : Index := Scalar.indexCast v1575
  let c0_663 : Index := 0#32
  ![v1583.toNat, 0]

def k0_chk607 (i : grid0.Coords) (v48 : BitVec 32) (v1573 : BitVec 32) : Prop :=
  (∀ (k0_h10 : k0_cond10 i v48 = 1#1), 8 ∣ (k0_mult601 v1573).toNat) ∧
  (∀ (k0_h10 : k0_cond10 i v48 = 1#1), ∀ a, (k0_off1589 v1573) a + S8x128.size a ≤ S65536x128.size a) ∧
  (∀ (k0_h10 : k0_cond10 i v48 = 1#1), ∀ a, (k0_off1590 v1573) a + S1x128.size a ≤ S8192x128.size a)
theorem k0_mult601_dvd : ∀ (i : grid0.Coords) (v48 : BitVec 32) (v1573 : BitVec 32) (k0_hw607 : k0_chk607 i v48 v1573), ∀ (k0_h10 : k0_cond10 i v48 = 1#1), 8 ∣ (k0_mult601 v1573).toNat := fun i v48 v1573 k0_hw607 k0_h10 => k0_hw607.1 k0_h10
theorem k0_off1589_inb : ∀ (i : grid0.Coords) (v48 : BitVec 32) (v1573 : BitVec 32) (k0_hw607 : k0_chk607 i v48 v1573), ∀ (k0_h10 : k0_cond10 i v48 = 1#1), ∀ a, (k0_off1589 v1573) a + S8x128.size a ≤ S65536x128.size a := fun i v48 v1573 k0_hw607 k0_h10 => k0_hw607.2.1 k0_h10
theorem k0_off1590_inb : ∀ (i : grid0.Coords) (v48 : BitVec 32) (v1573 : BitVec 32) (k0_hw607 : k0_chk607 i v48 v1573), ∀ (k0_h10 : k0_cond10 i v48 = 1#1), ∀ a, (k0_off1590 v1573) a + S1x128.size a ≤ S8192x128.size a := fun i v48 v1573 k0_hw607 k0_h10 => k0_hw607.2.2 k0_h10

def k0_off1591 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c89_i32 : BitVec 32 := 89#32
  let v1588 : BitVec 32 := Scalar.addi v74 c89_i32
  let v1589 : Index := Scalar.indexCast v1588
  ![v1589.toNat]
def k0_mult602 (v1590 : BitVec 32) : BitVec 32 :=
  let c3_i32_666 : BitVec 32 := 3#32
  let v1591 : BitVec 32 := Scalar.shrsi v1590 c3_i32_666
  let c8191_i32_667 : BitVec 32 := 8191#32
  let v1592 : BitVec 32 := Scalar.andi v1591 c8191_i32_667
  let c8_i32_668 : BitVec 32 := 8#32
  let v1593 : BitVec 32 := Scalar.muli v1592 c8_i32_668
  v1593

def k0_off1592 (v1590 : BitVec 32) : Fin 2 → Nat :=
  let c3_i32_666 : BitVec 32 := 3#32
  let v1591 : BitVec 32 := Scalar.shrsi v1590 c3_i32_666
  let c8191_i32_667 : BitVec 32 := 8191#32
  let v1592 : BitVec 32 := Scalar.andi v1591 c8191_i32_667
  let c8_i32_668 : BitVec 32 := 8#32
  let v1593 : BitVec 32 := Scalar.muli v1592 c8_i32_668
  let v1594 : BitVec 32 := v1593
  let v1595 : Index := Scalar.indexCast v1594
  let c0_669 : Index := 0#32
  ![v1595.toNat, 0]
def k0_off1593 (v1590 : BitVec 32) : Fin 2 → Nat :=
  let c3_i32_666 : BitVec 32 := 3#32
  let v1591 : BitVec 32 := Scalar.shrsi v1590 c3_i32_666
  let c8191_i32_667 : BitVec 32 := 8191#32
  let v1592 : BitVec 32 := Scalar.andi v1591 c8191_i32_667
  let v1600 : Index := Scalar.indexCast v1592
  let c0_671 : Index := 0#32
  ![v1600.toNat, 0]

def k0_chk608 (i : grid0.Coords) (v48 : BitVec 32) (v1590 : BitVec 32) : Prop :=
  (∀ (k0_h10 : k0_cond10 i v48 = 1#1), 8 ∣ (k0_mult602 v1590).toNat) ∧
  (∀ (k0_h10 : k0_cond10 i v48 = 1#1), ∀ a, (k0_off1592 v1590) a + S8x128.size a ≤ S65536x128.size a) ∧
  (∀ (k0_h10 : k0_cond10 i v48 = 1#1), ∀ a, (k0_off1593 v1590) a + S1x128.size a ≤ S8192x128.size a)
theorem k0_mult602_dvd : ∀ (i : grid0.Coords) (v48 : BitVec 32) (v1590 : BitVec 32) (k0_hw608 : k0_chk608 i v48 v1590), ∀ (k0_h10 : k0_cond10 i v48 = 1#1), 8 ∣ (k0_mult602 v1590).toNat := fun i v48 v1590 k0_hw608 k0_h10 => k0_hw608.1 k0_h10
theorem k0_off1592_inb : ∀ (i : grid0.Coords) (v48 : BitVec 32) (v1590 : BitVec 32) (k0_hw608 : k0_chk608 i v48 v1590), ∀ (k0_h10 : k0_cond10 i v48 = 1#1), ∀ a, (k0_off1592 v1590) a + S8x128.size a ≤ S65536x128.size a := fun i v48 v1590 k0_hw608 k0_h10 => k0_hw608.2.1 k0_h10
theorem k0_off1593_inb : ∀ (i : grid0.Coords) (v48 : BitVec 32) (v1590 : BitVec 32) (k0_hw608 : k0_chk608 i v48 v1590), ∀ (k0_h10 : k0_cond10 i v48 = 1#1), ∀ a, (k0_off1593 v1590) a + S1x128.size a ≤ S8192x128.size a := fun i v48 v1590 k0_hw608 k0_h10 => k0_hw608.2.2 k0_h10

def k0_off1594 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c90_i32 : BitVec 32 := 90#32
  let v1605 : BitVec 32 := Scalar.addi v74 c90_i32
  let v1606 : Index := Scalar.indexCast v1605
  ![v1606.toNat]
def k0_mult603 (v1607 : BitVec 32) : BitVec 32 :=
  let c3_i32_673 : BitVec 32 := 3#32
  let v1608 : BitVec 32 := Scalar.shrsi v1607 c3_i32_673
  let c8191_i32_674 : BitVec 32 := 8191#32
  let v1609 : BitVec 32 := Scalar.andi v1608 c8191_i32_674
  let c8_i32_675 : BitVec 32 := 8#32
  let v1610 : BitVec 32 := Scalar.muli v1609 c8_i32_675
  v1610

def k0_off1595 (v1607 : BitVec 32) : Fin 2 → Nat :=
  let c3_i32_673 : BitVec 32 := 3#32
  let v1608 : BitVec 32 := Scalar.shrsi v1607 c3_i32_673
  let c8191_i32_674 : BitVec 32 := 8191#32
  let v1609 : BitVec 32 := Scalar.andi v1608 c8191_i32_674
  let c8_i32_675 : BitVec 32 := 8#32
  let v1610 : BitVec 32 := Scalar.muli v1609 c8_i32_675
  let v1611 : BitVec 32 := v1610
  let v1612 : Index := Scalar.indexCast v1611
  let c0_676 : Index := 0#32
  ![v1612.toNat, 0]
def k0_off1596 (v1607 : BitVec 32) : Fin 2 → Nat :=
  let c3_i32_673 : BitVec 32 := 3#32
  let v1608 : BitVec 32 := Scalar.shrsi v1607 c3_i32_673
  let c8191_i32_674 : BitVec 32 := 8191#32
  let v1609 : BitVec 32 := Scalar.andi v1608 c8191_i32_674
  let v1617 : Index := Scalar.indexCast v1609
  let c0_678 : Index := 0#32
  ![v1617.toNat, 0]

def k0_chk609 (i : grid0.Coords) (v48 : BitVec 32) (v1607 : BitVec 32) : Prop :=
  (∀ (k0_h10 : k0_cond10 i v48 = 1#1), 8 ∣ (k0_mult603 v1607).toNat) ∧
  (∀ (k0_h10 : k0_cond10 i v48 = 1#1), ∀ a, (k0_off1595 v1607) a + S8x128.size a ≤ S65536x128.size a) ∧
  (∀ (k0_h10 : k0_cond10 i v48 = 1#1), ∀ a, (k0_off1596 v1607) a + S1x128.size a ≤ S8192x128.size a)
theorem k0_mult603_dvd : ∀ (i : grid0.Coords) (v48 : BitVec 32) (v1607 : BitVec 32) (k0_hw609 : k0_chk609 i v48 v1607), ∀ (k0_h10 : k0_cond10 i v48 = 1#1), 8 ∣ (k0_mult603 v1607).toNat := fun i v48 v1607 k0_hw609 k0_h10 => k0_hw609.1 k0_h10
theorem k0_off1595_inb : ∀ (i : grid0.Coords) (v48 : BitVec 32) (v1607 : BitVec 32) (k0_hw609 : k0_chk609 i v48 v1607), ∀ (k0_h10 : k0_cond10 i v48 = 1#1), ∀ a, (k0_off1595 v1607) a + S8x128.size a ≤ S65536x128.size a := fun i v48 v1607 k0_hw609 k0_h10 => k0_hw609.2.1 k0_h10
theorem k0_off1596_inb : ∀ (i : grid0.Coords) (v48 : BitVec 32) (v1607 : BitVec 32) (k0_hw609 : k0_chk609 i v48 v1607), ∀ (k0_h10 : k0_cond10 i v48 = 1#1), ∀ a, (k0_off1596 v1607) a + S1x128.size a ≤ S8192x128.size a := fun i v48 v1607 k0_hw609 k0_h10 => k0_hw609.2.2 k0_h10

def k0_off1597 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c91_i32 : BitVec 32 := 91#32
  let v1622 : BitVec 32 := Scalar.addi v74 c91_i32
  let v1623 : Index := Scalar.indexCast v1622
  ![v1623.toNat]
def k0_mult604 (v1624 : BitVec 32) : BitVec 32 :=
  let c3_i32_680 : BitVec 32 := 3#32
  let v1625 : BitVec 32 := Scalar.shrsi v1624 c3_i32_680
  let c8191_i32_681 : BitVec 32 := 8191#32
  let v1626 : BitVec 32 := Scalar.andi v1625 c8191_i32_681
  let c8_i32_682 : BitVec 32 := 8#32
  let v1627 : BitVec 32 := Scalar.muli v1626 c8_i32_682
  v1627

def k0_off1598 (v1624 : BitVec 32) : Fin 2 → Nat :=
  let c3_i32_680 : BitVec 32 := 3#32
  let v1625 : BitVec 32 := Scalar.shrsi v1624 c3_i32_680
  let c8191_i32_681 : BitVec 32 := 8191#32
  let v1626 : BitVec 32 := Scalar.andi v1625 c8191_i32_681
  let c8_i32_682 : BitVec 32 := 8#32
  let v1627 : BitVec 32 := Scalar.muli v1626 c8_i32_682
  let v1628 : BitVec 32 := v1627
  let v1629 : Index := Scalar.indexCast v1628
  let c0_683 : Index := 0#32
  ![v1629.toNat, 0]
def k0_off1599 (v1624 : BitVec 32) : Fin 2 → Nat :=
  let c3_i32_680 : BitVec 32 := 3#32
  let v1625 : BitVec 32 := Scalar.shrsi v1624 c3_i32_680
  let c8191_i32_681 : BitVec 32 := 8191#32
  let v1626 : BitVec 32 := Scalar.andi v1625 c8191_i32_681
  let v1634 : Index := Scalar.indexCast v1626
  let c0_685 : Index := 0#32
  ![v1634.toNat, 0]

def k0_chk610 (i : grid0.Coords) (v48 : BitVec 32) (v1624 : BitVec 32) : Prop :=
  (∀ (k0_h10 : k0_cond10 i v48 = 1#1), 8 ∣ (k0_mult604 v1624).toNat) ∧
  (∀ (k0_h10 : k0_cond10 i v48 = 1#1), ∀ a, (k0_off1598 v1624) a + S8x128.size a ≤ S65536x128.size a) ∧
  (∀ (k0_h10 : k0_cond10 i v48 = 1#1), ∀ a, (k0_off1599 v1624) a + S1x128.size a ≤ S8192x128.size a)
theorem k0_mult604_dvd : ∀ (i : grid0.Coords) (v48 : BitVec 32) (v1624 : BitVec 32) (k0_hw610 : k0_chk610 i v48 v1624), ∀ (k0_h10 : k0_cond10 i v48 = 1#1), 8 ∣ (k0_mult604 v1624).toNat := fun i v48 v1624 k0_hw610 k0_h10 => k0_hw610.1 k0_h10
theorem k0_off1598_inb : ∀ (i : grid0.Coords) (v48 : BitVec 32) (v1624 : BitVec 32) (k0_hw610 : k0_chk610 i v48 v1624), ∀ (k0_h10 : k0_cond10 i v48 = 1#1), ∀ a, (k0_off1598 v1624) a + S8x128.size a ≤ S65536x128.size a := fun i v48 v1624 k0_hw610 k0_h10 => k0_hw610.2.1 k0_h10
theorem k0_off1599_inb : ∀ (i : grid0.Coords) (v48 : BitVec 32) (v1624 : BitVec 32) (k0_hw610 : k0_chk610 i v48 v1624), ∀ (k0_h10 : k0_cond10 i v48 = 1#1), ∀ a, (k0_off1599 v1624) a + S1x128.size a ≤ S8192x128.size a := fun i v48 v1624 k0_hw610 k0_h10 => k0_hw610.2.2 k0_h10

def k0_off1600 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c92_i32 : BitVec 32 := 92#32
  let v1639 : BitVec 32 := Scalar.addi v74 c92_i32
  let v1640 : Index := Scalar.indexCast v1639
  ![v1640.toNat]
def k0_mult605 (v1641 : BitVec 32) : BitVec 32 :=
  let c3_i32_687 : BitVec 32 := 3#32
  let v1642 : BitVec 32 := Scalar.shrsi v1641 c3_i32_687
  let c8191_i32_688 : BitVec 32 := 8191#32
  let v1643 : BitVec 32 := Scalar.andi v1642 c8191_i32_688
  let c8_i32_689 : BitVec 32 := 8#32
  let v1644 : BitVec 32 := Scalar.muli v1643 c8_i32_689
  v1644

def k0_off1601 (v1641 : BitVec 32) : Fin 2 → Nat :=
  let c3_i32_687 : BitVec 32 := 3#32
  let v1642 : BitVec 32 := Scalar.shrsi v1641 c3_i32_687
  let c8191_i32_688 : BitVec 32 := 8191#32
  let v1643 : BitVec 32 := Scalar.andi v1642 c8191_i32_688
  let c8_i32_689 : BitVec 32 := 8#32
  let v1644 : BitVec 32 := Scalar.muli v1643 c8_i32_689
  let v1645 : BitVec 32 := v1644
  let v1646 : Index := Scalar.indexCast v1645
  let c0_690 : Index := 0#32
  ![v1646.toNat, 0]
def k0_off1602 (v1641 : BitVec 32) : Fin 2 → Nat :=
  let c3_i32_687 : BitVec 32 := 3#32
  let v1642 : BitVec 32 := Scalar.shrsi v1641 c3_i32_687
  let c8191_i32_688 : BitVec 32 := 8191#32
  let v1643 : BitVec 32 := Scalar.andi v1642 c8191_i32_688
  let v1651 : Index := Scalar.indexCast v1643
  let c0_692 : Index := 0#32
  ![v1651.toNat, 0]

def k0_chk611 (i : grid0.Coords) (v48 : BitVec 32) (v1641 : BitVec 32) : Prop :=
  (∀ (k0_h10 : k0_cond10 i v48 = 1#1), 8 ∣ (k0_mult605 v1641).toNat) ∧
  (∀ (k0_h10 : k0_cond10 i v48 = 1#1), ∀ a, (k0_off1601 v1641) a + S8x128.size a ≤ S65536x128.size a) ∧
  (∀ (k0_h10 : k0_cond10 i v48 = 1#1), ∀ a, (k0_off1602 v1641) a + S1x128.size a ≤ S8192x128.size a)
theorem k0_mult605_dvd : ∀ (i : grid0.Coords) (v48 : BitVec 32) (v1641 : BitVec 32) (k0_hw611 : k0_chk611 i v48 v1641), ∀ (k0_h10 : k0_cond10 i v48 = 1#1), 8 ∣ (k0_mult605 v1641).toNat := fun i v48 v1641 k0_hw611 k0_h10 => k0_hw611.1 k0_h10
theorem k0_off1601_inb : ∀ (i : grid0.Coords) (v48 : BitVec 32) (v1641 : BitVec 32) (k0_hw611 : k0_chk611 i v48 v1641), ∀ (k0_h10 : k0_cond10 i v48 = 1#1), ∀ a, (k0_off1601 v1641) a + S8x128.size a ≤ S65536x128.size a := fun i v48 v1641 k0_hw611 k0_h10 => k0_hw611.2.1 k0_h10
theorem k0_off1602_inb : ∀ (i : grid0.Coords) (v48 : BitVec 32) (v1641 : BitVec 32) (k0_hw611 : k0_chk611 i v48 v1641), ∀ (k0_h10 : k0_cond10 i v48 = 1#1), ∀ a, (k0_off1602 v1641) a + S1x128.size a ≤ S8192x128.size a := fun i v48 v1641 k0_hw611 k0_h10 => k0_hw611.2.2 k0_h10

def k0_off1603 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c93_i32 : BitVec 32 := 93#32
  let v1656 : BitVec 32 := Scalar.addi v74 c93_i32
  let v1657 : Index := Scalar.indexCast v1656
  ![v1657.toNat]
def k0_mult606 (v1658 : BitVec 32) : BitVec 32 :=
  let c3_i32_694 : BitVec 32 := 3#32
  let v1659 : BitVec 32 := Scalar.shrsi v1658 c3_i32_694
  let c8191_i32_695 : BitVec 32 := 8191#32
  let v1660 : BitVec 32 := Scalar.andi v1659 c8191_i32_695
  let c8_i32_696 : BitVec 32 := 8#32
  let v1661 : BitVec 32 := Scalar.muli v1660 c8_i32_696
  v1661

def k0_off1604 (v1658 : BitVec 32) : Fin 2 → Nat :=
  let c3_i32_694 : BitVec 32 := 3#32
  let v1659 : BitVec 32 := Scalar.shrsi v1658 c3_i32_694
  let c8191_i32_695 : BitVec 32 := 8191#32
  let v1660 : BitVec 32 := Scalar.andi v1659 c8191_i32_695
  let c8_i32_696 : BitVec 32 := 8#32
  let v1661 : BitVec 32 := Scalar.muli v1660 c8_i32_696
  let v1662 : BitVec 32 := v1661
  let v1663 : Index := Scalar.indexCast v1662
  let c0_697 : Index := 0#32
  ![v1663.toNat, 0]
def k0_off1605 (v1658 : BitVec 32) : Fin 2 → Nat :=
  let c3_i32_694 : BitVec 32 := 3#32
  let v1659 : BitVec 32 := Scalar.shrsi v1658 c3_i32_694
  let c8191_i32_695 : BitVec 32 := 8191#32
  let v1660 : BitVec 32 := Scalar.andi v1659 c8191_i32_695
  let v1668 : Index := Scalar.indexCast v1660
  let c0_699 : Index := 0#32
  ![v1668.toNat, 0]

def k0_chk612 (i : grid0.Coords) (v48 : BitVec 32) (v1658 : BitVec 32) : Prop :=
  (∀ (k0_h10 : k0_cond10 i v48 = 1#1), 8 ∣ (k0_mult606 v1658).toNat) ∧
  (∀ (k0_h10 : k0_cond10 i v48 = 1#1), ∀ a, (k0_off1604 v1658) a + S8x128.size a ≤ S65536x128.size a) ∧
  (∀ (k0_h10 : k0_cond10 i v48 = 1#1), ∀ a, (k0_off1605 v1658) a + S1x128.size a ≤ S8192x128.size a)
theorem k0_mult606_dvd : ∀ (i : grid0.Coords) (v48 : BitVec 32) (v1658 : BitVec 32) (k0_hw612 : k0_chk612 i v48 v1658), ∀ (k0_h10 : k0_cond10 i v48 = 1#1), 8 ∣ (k0_mult606 v1658).toNat := fun i v48 v1658 k0_hw612 k0_h10 => k0_hw612.1 k0_h10
theorem k0_off1604_inb : ∀ (i : grid0.Coords) (v48 : BitVec 32) (v1658 : BitVec 32) (k0_hw612 : k0_chk612 i v48 v1658), ∀ (k0_h10 : k0_cond10 i v48 = 1#1), ∀ a, (k0_off1604 v1658) a + S8x128.size a ≤ S65536x128.size a := fun i v48 v1658 k0_hw612 k0_h10 => k0_hw612.2.1 k0_h10
theorem k0_off1605_inb : ∀ (i : grid0.Coords) (v48 : BitVec 32) (v1658 : BitVec 32) (k0_hw612 : k0_chk612 i v48 v1658), ∀ (k0_h10 : k0_cond10 i v48 = 1#1), ∀ a, (k0_off1605 v1658) a + S1x128.size a ≤ S8192x128.size a := fun i v48 v1658 k0_hw612 k0_h10 => k0_hw612.2.2 k0_h10

def k0_off1606 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c94_i32 : BitVec 32 := 94#32
  let v1673 : BitVec 32 := Scalar.addi v74 c94_i32
  let v1674 : Index := Scalar.indexCast v1673
  ![v1674.toNat]
def k0_mult607 (v1675 : BitVec 32) : BitVec 32 :=
  let c3_i32_701 : BitVec 32 := 3#32
  let v1676 : BitVec 32 := Scalar.shrsi v1675 c3_i32_701
  let c8191_i32_702 : BitVec 32 := 8191#32
  let v1677 : BitVec 32 := Scalar.andi v1676 c8191_i32_702
  let c8_i32_703 : BitVec 32 := 8#32
  let v1678 : BitVec 32 := Scalar.muli v1677 c8_i32_703
  v1678

def k0_off1607 (v1675 : BitVec 32) : Fin 2 → Nat :=
  let c3_i32_701 : BitVec 32 := 3#32
  let v1676 : BitVec 32 := Scalar.shrsi v1675 c3_i32_701
  let c8191_i32_702 : BitVec 32 := 8191#32
  let v1677 : BitVec 32 := Scalar.andi v1676 c8191_i32_702
  let c8_i32_703 : BitVec 32 := 8#32
  let v1678 : BitVec 32 := Scalar.muli v1677 c8_i32_703
  let v1679 : BitVec 32 := v1678
  let v1680 : Index := Scalar.indexCast v1679
  let c0_704 : Index := 0#32
  ![v1680.toNat, 0]
def k0_off1608 (v1675 : BitVec 32) : Fin 2 → Nat :=
  let c3_i32_701 : BitVec 32 := 3#32
  let v1676 : BitVec 32 := Scalar.shrsi v1675 c3_i32_701
  let c8191_i32_702 : BitVec 32 := 8191#32
  let v1677 : BitVec 32 := Scalar.andi v1676 c8191_i32_702
  let v1685 : Index := Scalar.indexCast v1677
  let c0_706 : Index := 0#32
  ![v1685.toNat, 0]

def k0_chk613 (i : grid0.Coords) (v48 : BitVec 32) (v1675 : BitVec 32) : Prop :=
  (∀ (k0_h10 : k0_cond10 i v48 = 1#1), 8 ∣ (k0_mult607 v1675).toNat) ∧
  (∀ (k0_h10 : k0_cond10 i v48 = 1#1), ∀ a, (k0_off1607 v1675) a + S8x128.size a ≤ S65536x128.size a) ∧
  (∀ (k0_h10 : k0_cond10 i v48 = 1#1), ∀ a, (k0_off1608 v1675) a + S1x128.size a ≤ S8192x128.size a)
theorem k0_mult607_dvd : ∀ (i : grid0.Coords) (v48 : BitVec 32) (v1675 : BitVec 32) (k0_hw613 : k0_chk613 i v48 v1675), ∀ (k0_h10 : k0_cond10 i v48 = 1#1), 8 ∣ (k0_mult607 v1675).toNat := fun i v48 v1675 k0_hw613 k0_h10 => k0_hw613.1 k0_h10
theorem k0_off1607_inb : ∀ (i : grid0.Coords) (v48 : BitVec 32) (v1675 : BitVec 32) (k0_hw613 : k0_chk613 i v48 v1675), ∀ (k0_h10 : k0_cond10 i v48 = 1#1), ∀ a, (k0_off1607 v1675) a + S8x128.size a ≤ S65536x128.size a := fun i v48 v1675 k0_hw613 k0_h10 => k0_hw613.2.1 k0_h10
theorem k0_off1608_inb : ∀ (i : grid0.Coords) (v48 : BitVec 32) (v1675 : BitVec 32) (k0_hw613 : k0_chk613 i v48 v1675), ∀ (k0_h10 : k0_cond10 i v48 = 1#1), ∀ a, (k0_off1608 v1675) a + S1x128.size a ≤ S8192x128.size a := fun i v48 v1675 k0_hw613 k0_h10 => k0_hw613.2.2 k0_h10

def k0_off1609 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c95_i32 : BitVec 32 := 95#32
  let v1690 : BitVec 32 := Scalar.addi v74 c95_i32
  let v1691 : Index := Scalar.indexCast v1690
  ![v1691.toNat]
def k0_mult608 (v1692 : BitVec 32) : BitVec 32 :=
  let c3_i32_708 : BitVec 32 := 3#32
  let v1693 : BitVec 32 := Scalar.shrsi v1692 c3_i32_708
  let c8191_i32_709 : BitVec 32 := 8191#32
  let v1694 : BitVec 32 := Scalar.andi v1693 c8191_i32_709
  let c8_i32_710 : BitVec 32 := 8#32
  let v1695 : BitVec 32 := Scalar.muli v1694 c8_i32_710
  v1695

def k0_off1610 (v1692 : BitVec 32) : Fin 2 → Nat :=
  let c3_i32_708 : BitVec 32 := 3#32
  let v1693 : BitVec 32 := Scalar.shrsi v1692 c3_i32_708
  let c8191_i32_709 : BitVec 32 := 8191#32
  let v1694 : BitVec 32 := Scalar.andi v1693 c8191_i32_709
  let c8_i32_710 : BitVec 32 := 8#32
  let v1695 : BitVec 32 := Scalar.muli v1694 c8_i32_710
  let v1696 : BitVec 32 := v1695
  let v1697 : Index := Scalar.indexCast v1696
  let c0_711 : Index := 0#32
  ![v1697.toNat, 0]
def k0_off1611 (v1692 : BitVec 32) : Fin 2 → Nat :=
  let c3_i32_708 : BitVec 32 := 3#32
  let v1693 : BitVec 32 := Scalar.shrsi v1692 c3_i32_708
  let c8191_i32_709 : BitVec 32 := 8191#32
  let v1694 : BitVec 32 := Scalar.andi v1693 c8191_i32_709
  let v1702 : Index := Scalar.indexCast v1694
  let c0_713 : Index := 0#32
  ![v1702.toNat, 0]

def k0_chk614 (i : grid0.Coords) (v48 : BitVec 32) (v1692 : BitVec 32) : Prop :=
  (∀ (k0_h10 : k0_cond10 i v48 = 1#1), 8 ∣ (k0_mult608 v1692).toNat) ∧
  (∀ (k0_h10 : k0_cond10 i v48 = 1#1), ∀ a, (k0_off1610 v1692) a + S8x128.size a ≤ S65536x128.size a) ∧
  (∀ (k0_h10 : k0_cond10 i v48 = 1#1), ∀ a, (k0_off1611 v1692) a + S1x128.size a ≤ S8192x128.size a)
theorem k0_mult608_dvd : ∀ (i : grid0.Coords) (v48 : BitVec 32) (v1692 : BitVec 32) (k0_hw614 : k0_chk614 i v48 v1692), ∀ (k0_h10 : k0_cond10 i v48 = 1#1), 8 ∣ (k0_mult608 v1692).toNat := fun i v48 v1692 k0_hw614 k0_h10 => k0_hw614.1 k0_h10
theorem k0_off1610_inb : ∀ (i : grid0.Coords) (v48 : BitVec 32) (v1692 : BitVec 32) (k0_hw614 : k0_chk614 i v48 v1692), ∀ (k0_h10 : k0_cond10 i v48 = 1#1), ∀ a, (k0_off1610 v1692) a + S8x128.size a ≤ S65536x128.size a := fun i v48 v1692 k0_hw614 k0_h10 => k0_hw614.2.1 k0_h10
theorem k0_off1611_inb : ∀ (i : grid0.Coords) (v48 : BitVec 32) (v1692 : BitVec 32) (k0_hw614 : k0_chk614 i v48 v1692), ∀ (k0_h10 : k0_cond10 i v48 = 1#1), ∀ a, (k0_off1611 v1692) a + S1x128.size a ≤ S8192x128.size a := fun i v48 v1692 k0_hw614 k0_h10 => k0_hw614.2.2 k0_h10

def k0_off1612 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c96_i32 : BitVec 32 := 96#32
  let v1707 : BitVec 32 := Scalar.addi v74 c96_i32
  let v1708 : Index := Scalar.indexCast v1707
  ![v1708.toNat]
def k0_mult609 (v1709 : BitVec 32) : BitVec 32 :=
  let c3_i32_715 : BitVec 32 := 3#32
  let v1710 : BitVec 32 := Scalar.shrsi v1709 c3_i32_715
  let c8191_i32_716 : BitVec 32 := 8191#32
  let v1711 : BitVec 32 := Scalar.andi v1710 c8191_i32_716
  let c8_i32_717 : BitVec 32 := 8#32
  let v1712 : BitVec 32 := Scalar.muli v1711 c8_i32_717
  v1712

def k0_off1613 (v1709 : BitVec 32) : Fin 2 → Nat :=
  let c3_i32_715 : BitVec 32 := 3#32
  let v1710 : BitVec 32 := Scalar.shrsi v1709 c3_i32_715
  let c8191_i32_716 : BitVec 32 := 8191#32
  let v1711 : BitVec 32 := Scalar.andi v1710 c8191_i32_716
  let c8_i32_717 : BitVec 32 := 8#32
  let v1712 : BitVec 32 := Scalar.muli v1711 c8_i32_717
  let v1713 : BitVec 32 := v1712
  let v1714 : Index := Scalar.indexCast v1713
  let c0_718 : Index := 0#32
  ![v1714.toNat, 0]
def k0_off1614 (v1709 : BitVec 32) : Fin 2 → Nat :=
  let c3_i32_715 : BitVec 32 := 3#32
  let v1710 : BitVec 32 := Scalar.shrsi v1709 c3_i32_715
  let c8191_i32_716 : BitVec 32 := 8191#32
  let v1711 : BitVec 32 := Scalar.andi v1710 c8191_i32_716
  let v1719 : Index := Scalar.indexCast v1711
  let c0_720 : Index := 0#32
  ![v1719.toNat, 0]

def k0_chk615 (i : grid0.Coords) (v48 : BitVec 32) (v1709 : BitVec 32) : Prop :=
  (∀ (k0_h10 : k0_cond10 i v48 = 1#1), 8 ∣ (k0_mult609 v1709).toNat) ∧
  (∀ (k0_h10 : k0_cond10 i v48 = 1#1), ∀ a, (k0_off1613 v1709) a + S8x128.size a ≤ S65536x128.size a) ∧
  (∀ (k0_h10 : k0_cond10 i v48 = 1#1), ∀ a, (k0_off1614 v1709) a + S1x128.size a ≤ S8192x128.size a)
theorem k0_mult609_dvd : ∀ (i : grid0.Coords) (v48 : BitVec 32) (v1709 : BitVec 32) (k0_hw615 : k0_chk615 i v48 v1709), ∀ (k0_h10 : k0_cond10 i v48 = 1#1), 8 ∣ (k0_mult609 v1709).toNat := fun i v48 v1709 k0_hw615 k0_h10 => k0_hw615.1 k0_h10
theorem k0_off1613_inb : ∀ (i : grid0.Coords) (v48 : BitVec 32) (v1709 : BitVec 32) (k0_hw615 : k0_chk615 i v48 v1709), ∀ (k0_h10 : k0_cond10 i v48 = 1#1), ∀ a, (k0_off1613 v1709) a + S8x128.size a ≤ S65536x128.size a := fun i v48 v1709 k0_hw615 k0_h10 => k0_hw615.2.1 k0_h10
theorem k0_off1614_inb : ∀ (i : grid0.Coords) (v48 : BitVec 32) (v1709 : BitVec 32) (k0_hw615 : k0_chk615 i v48 v1709), ∀ (k0_h10 : k0_cond10 i v48 = 1#1), ∀ a, (k0_off1614 v1709) a + S1x128.size a ≤ S8192x128.size a := fun i v48 v1709 k0_hw615 k0_h10 => k0_hw615.2.2 k0_h10

def k0_off1615 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c97_i32 : BitVec 32 := 97#32
  let v1724 : BitVec 32 := Scalar.addi v74 c97_i32
  let v1725 : Index := Scalar.indexCast v1724
  ![v1725.toNat]
def k0_mult610 (v1726 : BitVec 32) : BitVec 32 :=
  let c3_i32_723 : BitVec 32 := 3#32
  let v1727 : BitVec 32 := Scalar.shrsi v1726 c3_i32_723
  let c8191_i32_724 : BitVec 32 := 8191#32
  let v1728 : BitVec 32 := Scalar.andi v1727 c8191_i32_724
  let c8_i32_725 : BitVec 32 := 8#32
  let v1729 : BitVec 32 := Scalar.muli v1728 c8_i32_725
  v1729

def k0_off1616 (v1726 : BitVec 32) : Fin 2 → Nat :=
  let c3_i32_723 : BitVec 32 := 3#32
  let v1727 : BitVec 32 := Scalar.shrsi v1726 c3_i32_723
  let c8191_i32_724 : BitVec 32 := 8191#32
  let v1728 : BitVec 32 := Scalar.andi v1727 c8191_i32_724
  let c8_i32_725 : BitVec 32 := 8#32
  let v1729 : BitVec 32 := Scalar.muli v1728 c8_i32_725
  let v1730 : BitVec 32 := v1729
  let v1731 : Index := Scalar.indexCast v1730
  let c0_726 : Index := 0#32
  ![v1731.toNat, 0]
def k0_off1617 (v1726 : BitVec 32) : Fin 2 → Nat :=
  let c3_i32_723 : BitVec 32 := 3#32
  let v1727 : BitVec 32 := Scalar.shrsi v1726 c3_i32_723
  let c8191_i32_724 : BitVec 32 := 8191#32
  let v1728 : BitVec 32 := Scalar.andi v1727 c8191_i32_724
  let v1736 : Index := Scalar.indexCast v1728
  let c0_728 : Index := 0#32
  ![v1736.toNat, 0]

def k0_chk616 (i : grid0.Coords) (v48 : BitVec 32) (v1726 : BitVec 32) : Prop :=
  (∀ (k0_h10 : k0_cond10 i v48 = 1#1), 8 ∣ (k0_mult610 v1726).toNat) ∧
  (∀ (k0_h10 : k0_cond10 i v48 = 1#1), ∀ a, (k0_off1616 v1726) a + S8x128.size a ≤ S65536x128.size a) ∧
  (∀ (k0_h10 : k0_cond10 i v48 = 1#1), ∀ a, (k0_off1617 v1726) a + S1x128.size a ≤ S8192x128.size a)
theorem k0_mult610_dvd : ∀ (i : grid0.Coords) (v48 : BitVec 32) (v1726 : BitVec 32) (k0_hw616 : k0_chk616 i v48 v1726), ∀ (k0_h10 : k0_cond10 i v48 = 1#1), 8 ∣ (k0_mult610 v1726).toNat := fun i v48 v1726 k0_hw616 k0_h10 => k0_hw616.1 k0_h10
theorem k0_off1616_inb : ∀ (i : grid0.Coords) (v48 : BitVec 32) (v1726 : BitVec 32) (k0_hw616 : k0_chk616 i v48 v1726), ∀ (k0_h10 : k0_cond10 i v48 = 1#1), ∀ a, (k0_off1616 v1726) a + S8x128.size a ≤ S65536x128.size a := fun i v48 v1726 k0_hw616 k0_h10 => k0_hw616.2.1 k0_h10
theorem k0_off1617_inb : ∀ (i : grid0.Coords) (v48 : BitVec 32) (v1726 : BitVec 32) (k0_hw616 : k0_chk616 i v48 v1726), ∀ (k0_h10 : k0_cond10 i v48 = 1#1), ∀ a, (k0_off1617 v1726) a + S1x128.size a ≤ S8192x128.size a := fun i v48 v1726 k0_hw616 k0_h10 => k0_hw616.2.2 k0_h10

def k0_off1618 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c98_i32 : BitVec 32 := 98#32
  let v1741 : BitVec 32 := Scalar.addi v74 c98_i32
  let v1742 : Index := Scalar.indexCast v1741
  ![v1742.toNat]
def k0_mult611 (v1743 : BitVec 32) : BitVec 32 :=
  let c3_i32_730 : BitVec 32 := 3#32
  let v1744 : BitVec 32 := Scalar.shrsi v1743 c3_i32_730
  let c8191_i32_731 : BitVec 32 := 8191#32
  let v1745 : BitVec 32 := Scalar.andi v1744 c8191_i32_731
  let c8_i32_732 : BitVec 32 := 8#32
  let v1746 : BitVec 32 := Scalar.muli v1745 c8_i32_732
  v1746

def k0_off1619 (v1743 : BitVec 32) : Fin 2 → Nat :=
  let c3_i32_730 : BitVec 32 := 3#32
  let v1744 : BitVec 32 := Scalar.shrsi v1743 c3_i32_730
  let c8191_i32_731 : BitVec 32 := 8191#32
  let v1745 : BitVec 32 := Scalar.andi v1744 c8191_i32_731
  let c8_i32_732 : BitVec 32 := 8#32
  let v1746 : BitVec 32 := Scalar.muli v1745 c8_i32_732
  let v1747 : BitVec 32 := v1746
  let v1748 : Index := Scalar.indexCast v1747
  let c0_733 : Index := 0#32
  ![v1748.toNat, 0]
def k0_off1620 (v1743 : BitVec 32) : Fin 2 → Nat :=
  let c3_i32_730 : BitVec 32 := 3#32
  let v1744 : BitVec 32 := Scalar.shrsi v1743 c3_i32_730
  let c8191_i32_731 : BitVec 32 := 8191#32
  let v1745 : BitVec 32 := Scalar.andi v1744 c8191_i32_731
  let v1753 : Index := Scalar.indexCast v1745
  let c0_735 : Index := 0#32
  ![v1753.toNat, 0]

def k0_chk617 (i : grid0.Coords) (v48 : BitVec 32) (v1743 : BitVec 32) : Prop :=
  (∀ (k0_h10 : k0_cond10 i v48 = 1#1), 8 ∣ (k0_mult611 v1743).toNat) ∧
  (∀ (k0_h10 : k0_cond10 i v48 = 1#1), ∀ a, (k0_off1619 v1743) a + S8x128.size a ≤ S65536x128.size a) ∧
  (∀ (k0_h10 : k0_cond10 i v48 = 1#1), ∀ a, (k0_off1620 v1743) a + S1x128.size a ≤ S8192x128.size a)
theorem k0_mult611_dvd : ∀ (i : grid0.Coords) (v48 : BitVec 32) (v1743 : BitVec 32) (k0_hw617 : k0_chk617 i v48 v1743), ∀ (k0_h10 : k0_cond10 i v48 = 1#1), 8 ∣ (k0_mult611 v1743).toNat := fun i v48 v1743 k0_hw617 k0_h10 => k0_hw617.1 k0_h10
theorem k0_off1619_inb : ∀ (i : grid0.Coords) (v48 : BitVec 32) (v1743 : BitVec 32) (k0_hw617 : k0_chk617 i v48 v1743), ∀ (k0_h10 : k0_cond10 i v48 = 1#1), ∀ a, (k0_off1619 v1743) a + S8x128.size a ≤ S65536x128.size a := fun i v48 v1743 k0_hw617 k0_h10 => k0_hw617.2.1 k0_h10
theorem k0_off1620_inb : ∀ (i : grid0.Coords) (v48 : BitVec 32) (v1743 : BitVec 32) (k0_hw617 : k0_chk617 i v48 v1743), ∀ (k0_h10 : k0_cond10 i v48 = 1#1), ∀ a, (k0_off1620 v1743) a + S1x128.size a ≤ S8192x128.size a := fun i v48 v1743 k0_hw617 k0_h10 => k0_hw617.2.2 k0_h10

def k0_off1621 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c99_i32 : BitVec 32 := 99#32
  let v1758 : BitVec 32 := Scalar.addi v74 c99_i32
  let v1759 : Index := Scalar.indexCast v1758
  ![v1759.toNat]
def k0_mult612 (v1760 : BitVec 32) : BitVec 32 :=
  let c3_i32_737 : BitVec 32 := 3#32
  let v1761 : BitVec 32 := Scalar.shrsi v1760 c3_i32_737
  let c8191_i32_738 : BitVec 32 := 8191#32
  let v1762 : BitVec 32 := Scalar.andi v1761 c8191_i32_738
  let c8_i32_739 : BitVec 32 := 8#32
  let v1763 : BitVec 32 := Scalar.muli v1762 c8_i32_739
  v1763

def k0_off1622 (v1760 : BitVec 32) : Fin 2 → Nat :=
  let c3_i32_737 : BitVec 32 := 3#32
  let v1761 : BitVec 32 := Scalar.shrsi v1760 c3_i32_737
  let c8191_i32_738 : BitVec 32 := 8191#32
  let v1762 : BitVec 32 := Scalar.andi v1761 c8191_i32_738
  let c8_i32_739 : BitVec 32 := 8#32
  let v1763 : BitVec 32 := Scalar.muli v1762 c8_i32_739
  let v1764 : BitVec 32 := v1763
  let v1765 : Index := Scalar.indexCast v1764
  let c0_740 : Index := 0#32
  ![v1765.toNat, 0]
def k0_off1623 (v1760 : BitVec 32) : Fin 2 → Nat :=
  let c3_i32_737 : BitVec 32 := 3#32
  let v1761 : BitVec 32 := Scalar.shrsi v1760 c3_i32_737
  let c8191_i32_738 : BitVec 32 := 8191#32
  let v1762 : BitVec 32 := Scalar.andi v1761 c8191_i32_738
  let v1770 : Index := Scalar.indexCast v1762
  let c0_742 : Index := 0#32
  ![v1770.toNat, 0]

def k0_chk618 (i : grid0.Coords) (v48 : BitVec 32) (v1760 : BitVec 32) : Prop :=
  (∀ (k0_h10 : k0_cond10 i v48 = 1#1), 8 ∣ (k0_mult612 v1760).toNat) ∧
  (∀ (k0_h10 : k0_cond10 i v48 = 1#1), ∀ a, (k0_off1622 v1760) a + S8x128.size a ≤ S65536x128.size a) ∧
  (∀ (k0_h10 : k0_cond10 i v48 = 1#1), ∀ a, (k0_off1623 v1760) a + S1x128.size a ≤ S8192x128.size a)
theorem k0_mult612_dvd : ∀ (i : grid0.Coords) (v48 : BitVec 32) (v1760 : BitVec 32) (k0_hw618 : k0_chk618 i v48 v1760), ∀ (k0_h10 : k0_cond10 i v48 = 1#1), 8 ∣ (k0_mult612 v1760).toNat := fun i v48 v1760 k0_hw618 k0_h10 => k0_hw618.1 k0_h10
theorem k0_off1622_inb : ∀ (i : grid0.Coords) (v48 : BitVec 32) (v1760 : BitVec 32) (k0_hw618 : k0_chk618 i v48 v1760), ∀ (k0_h10 : k0_cond10 i v48 = 1#1), ∀ a, (k0_off1622 v1760) a + S8x128.size a ≤ S65536x128.size a := fun i v48 v1760 k0_hw618 k0_h10 => k0_hw618.2.1 k0_h10
theorem k0_off1623_inb : ∀ (i : grid0.Coords) (v48 : BitVec 32) (v1760 : BitVec 32) (k0_hw618 : k0_chk618 i v48 v1760), ∀ (k0_h10 : k0_cond10 i v48 = 1#1), ∀ a, (k0_off1623 v1760) a + S1x128.size a ≤ S8192x128.size a := fun i v48 v1760 k0_hw618 k0_h10 => k0_hw618.2.2 k0_h10

def k0_off1624 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c100_i32 : BitVec 32 := 100#32
  let v1775 : BitVec 32 := Scalar.addi v74 c100_i32
  let v1776 : Index := Scalar.indexCast v1775
  ![v1776.toNat]
def k0_mult613 (v1777 : BitVec 32) : BitVec 32 :=
  let c3_i32_744 : BitVec 32 := 3#32
  let v1778 : BitVec 32 := Scalar.shrsi v1777 c3_i32_744
  let c8191_i32_745 : BitVec 32 := 8191#32
  let v1779 : BitVec 32 := Scalar.andi v1778 c8191_i32_745
  let c8_i32_746 : BitVec 32 := 8#32
  let v1780 : BitVec 32 := Scalar.muli v1779 c8_i32_746
  v1780

def k0_off1625 (v1777 : BitVec 32) : Fin 2 → Nat :=
  let c3_i32_744 : BitVec 32 := 3#32
  let v1778 : BitVec 32 := Scalar.shrsi v1777 c3_i32_744
  let c8191_i32_745 : BitVec 32 := 8191#32
  let v1779 : BitVec 32 := Scalar.andi v1778 c8191_i32_745
  let c8_i32_746 : BitVec 32 := 8#32
  let v1780 : BitVec 32 := Scalar.muli v1779 c8_i32_746
  let v1781 : BitVec 32 := v1780
  let v1782 : Index := Scalar.indexCast v1781
  let c0_747 : Index := 0#32
  ![v1782.toNat, 0]
def k0_off1626 (v1777 : BitVec 32) : Fin 2 → Nat :=
  let c3_i32_744 : BitVec 32 := 3#32
  let v1778 : BitVec 32 := Scalar.shrsi v1777 c3_i32_744
  let c8191_i32_745 : BitVec 32 := 8191#32
  let v1779 : BitVec 32 := Scalar.andi v1778 c8191_i32_745
  let v1787 : Index := Scalar.indexCast v1779
  let c0_749 : Index := 0#32
  ![v1787.toNat, 0]

def k0_chk619 (i : grid0.Coords) (v48 : BitVec 32) (v1777 : BitVec 32) : Prop :=
  (∀ (k0_h10 : k0_cond10 i v48 = 1#1), 8 ∣ (k0_mult613 v1777).toNat) ∧
  (∀ (k0_h10 : k0_cond10 i v48 = 1#1), ∀ a, (k0_off1625 v1777) a + S8x128.size a ≤ S65536x128.size a) ∧
  (∀ (k0_h10 : k0_cond10 i v48 = 1#1), ∀ a, (k0_off1626 v1777) a + S1x128.size a ≤ S8192x128.size a)
theorem k0_mult613_dvd : ∀ (i : grid0.Coords) (v48 : BitVec 32) (v1777 : BitVec 32) (k0_hw619 : k0_chk619 i v48 v1777), ∀ (k0_h10 : k0_cond10 i v48 = 1#1), 8 ∣ (k0_mult613 v1777).toNat := fun i v48 v1777 k0_hw619 k0_h10 => k0_hw619.1 k0_h10
theorem k0_off1625_inb : ∀ (i : grid0.Coords) (v48 : BitVec 32) (v1777 : BitVec 32) (k0_hw619 : k0_chk619 i v48 v1777), ∀ (k0_h10 : k0_cond10 i v48 = 1#1), ∀ a, (k0_off1625 v1777) a + S8x128.size a ≤ S65536x128.size a := fun i v48 v1777 k0_hw619 k0_h10 => k0_hw619.2.1 k0_h10
theorem k0_off1626_inb : ∀ (i : grid0.Coords) (v48 : BitVec 32) (v1777 : BitVec 32) (k0_hw619 : k0_chk619 i v48 v1777), ∀ (k0_h10 : k0_cond10 i v48 = 1#1), ∀ a, (k0_off1626 v1777) a + S1x128.size a ≤ S8192x128.size a := fun i v48 v1777 k0_hw619 k0_h10 => k0_hw619.2.2 k0_h10

def k0_off1627 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c101_i32 : BitVec 32 := 101#32
  let v1792 : BitVec 32 := Scalar.addi v74 c101_i32
  let v1793 : Index := Scalar.indexCast v1792
  ![v1793.toNat]
def k0_mult614 (v1794 : BitVec 32) : BitVec 32 :=
  let c3_i32_751 : BitVec 32 := 3#32
  let v1795 : BitVec 32 := Scalar.shrsi v1794 c3_i32_751
  let c8191_i32_752 : BitVec 32 := 8191#32
  let v1796 : BitVec 32 := Scalar.andi v1795 c8191_i32_752
  let c8_i32_753 : BitVec 32 := 8#32
  let v1797 : BitVec 32 := Scalar.muli v1796 c8_i32_753
  v1797

def k0_off1628 (v1794 : BitVec 32) : Fin 2 → Nat :=
  let c3_i32_751 : BitVec 32 := 3#32
  let v1795 : BitVec 32 := Scalar.shrsi v1794 c3_i32_751
  let c8191_i32_752 : BitVec 32 := 8191#32
  let v1796 : BitVec 32 := Scalar.andi v1795 c8191_i32_752
  let c8_i32_753 : BitVec 32 := 8#32
  let v1797 : BitVec 32 := Scalar.muli v1796 c8_i32_753
  let v1798 : BitVec 32 := v1797
  let v1799 : Index := Scalar.indexCast v1798
  let c0_754 : Index := 0#32
  ![v1799.toNat, 0]
def k0_off1629 (v1794 : BitVec 32) : Fin 2 → Nat :=
  let c3_i32_751 : BitVec 32 := 3#32
  let v1795 : BitVec 32 := Scalar.shrsi v1794 c3_i32_751
  let c8191_i32_752 : BitVec 32 := 8191#32
  let v1796 : BitVec 32 := Scalar.andi v1795 c8191_i32_752
  let v1804 : Index := Scalar.indexCast v1796
  let c0_756 : Index := 0#32
  ![v1804.toNat, 0]

def k0_chk620 (i : grid0.Coords) (v48 : BitVec 32) (v1794 : BitVec 32) : Prop :=
  (∀ (k0_h10 : k0_cond10 i v48 = 1#1), 8 ∣ (k0_mult614 v1794).toNat) ∧
  (∀ (k0_h10 : k0_cond10 i v48 = 1#1), ∀ a, (k0_off1628 v1794) a + S8x128.size a ≤ S65536x128.size a) ∧
  (∀ (k0_h10 : k0_cond10 i v48 = 1#1), ∀ a, (k0_off1629 v1794) a + S1x128.size a ≤ S8192x128.size a)
theorem k0_mult614_dvd : ∀ (i : grid0.Coords) (v48 : BitVec 32) (v1794 : BitVec 32) (k0_hw620 : k0_chk620 i v48 v1794), ∀ (k0_h10 : k0_cond10 i v48 = 1#1), 8 ∣ (k0_mult614 v1794).toNat := fun i v48 v1794 k0_hw620 k0_h10 => k0_hw620.1 k0_h10
theorem k0_off1628_inb : ∀ (i : grid0.Coords) (v48 : BitVec 32) (v1794 : BitVec 32) (k0_hw620 : k0_chk620 i v48 v1794), ∀ (k0_h10 : k0_cond10 i v48 = 1#1), ∀ a, (k0_off1628 v1794) a + S8x128.size a ≤ S65536x128.size a := fun i v48 v1794 k0_hw620 k0_h10 => k0_hw620.2.1 k0_h10
theorem k0_off1629_inb : ∀ (i : grid0.Coords) (v48 : BitVec 32) (v1794 : BitVec 32) (k0_hw620 : k0_chk620 i v48 v1794), ∀ (k0_h10 : k0_cond10 i v48 = 1#1), ∀ a, (k0_off1629 v1794) a + S1x128.size a ≤ S8192x128.size a := fun i v48 v1794 k0_hw620 k0_h10 => k0_hw620.2.2 k0_h10

def k0_off1630 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c102_i32 : BitVec 32 := 102#32
  let v1809 : BitVec 32 := Scalar.addi v74 c102_i32
  let v1810 : Index := Scalar.indexCast v1809
  ![v1810.toNat]
def k0_mult615 (v1811 : BitVec 32) : BitVec 32 :=
  let c3_i32_758 : BitVec 32 := 3#32
  let v1812 : BitVec 32 := Scalar.shrsi v1811 c3_i32_758
  let c8191_i32_759 : BitVec 32 := 8191#32
  let v1813 : BitVec 32 := Scalar.andi v1812 c8191_i32_759
  let c8_i32_760 : BitVec 32 := 8#32
  let v1814 : BitVec 32 := Scalar.muli v1813 c8_i32_760
  v1814

def k0_off1631 (v1811 : BitVec 32) : Fin 2 → Nat :=
  let c3_i32_758 : BitVec 32 := 3#32
  let v1812 : BitVec 32 := Scalar.shrsi v1811 c3_i32_758
  let c8191_i32_759 : BitVec 32 := 8191#32
  let v1813 : BitVec 32 := Scalar.andi v1812 c8191_i32_759
  let c8_i32_760 : BitVec 32 := 8#32
  let v1814 : BitVec 32 := Scalar.muli v1813 c8_i32_760
  let v1815 : BitVec 32 := v1814
  let v1816 : Index := Scalar.indexCast v1815
  let c0_761 : Index := 0#32
  ![v1816.toNat, 0]
def k0_off1632 (v1811 : BitVec 32) : Fin 2 → Nat :=
  let c3_i32_758 : BitVec 32 := 3#32
  let v1812 : BitVec 32 := Scalar.shrsi v1811 c3_i32_758
  let c8191_i32_759 : BitVec 32 := 8191#32
  let v1813 : BitVec 32 := Scalar.andi v1812 c8191_i32_759
  let v1821 : Index := Scalar.indexCast v1813
  let c0_763 : Index := 0#32
  ![v1821.toNat, 0]

def k0_chk621 (i : grid0.Coords) (v48 : BitVec 32) (v1811 : BitVec 32) : Prop :=
  (∀ (k0_h10 : k0_cond10 i v48 = 1#1), 8 ∣ (k0_mult615 v1811).toNat) ∧
  (∀ (k0_h10 : k0_cond10 i v48 = 1#1), ∀ a, (k0_off1631 v1811) a + S8x128.size a ≤ S65536x128.size a) ∧
  (∀ (k0_h10 : k0_cond10 i v48 = 1#1), ∀ a, (k0_off1632 v1811) a + S1x128.size a ≤ S8192x128.size a)
theorem k0_mult615_dvd : ∀ (i : grid0.Coords) (v48 : BitVec 32) (v1811 : BitVec 32) (k0_hw621 : k0_chk621 i v48 v1811), ∀ (k0_h10 : k0_cond10 i v48 = 1#1), 8 ∣ (k0_mult615 v1811).toNat := fun i v48 v1811 k0_hw621 k0_h10 => k0_hw621.1 k0_h10
theorem k0_off1631_inb : ∀ (i : grid0.Coords) (v48 : BitVec 32) (v1811 : BitVec 32) (k0_hw621 : k0_chk621 i v48 v1811), ∀ (k0_h10 : k0_cond10 i v48 = 1#1), ∀ a, (k0_off1631 v1811) a + S8x128.size a ≤ S65536x128.size a := fun i v48 v1811 k0_hw621 k0_h10 => k0_hw621.2.1 k0_h10
theorem k0_off1632_inb : ∀ (i : grid0.Coords) (v48 : BitVec 32) (v1811 : BitVec 32) (k0_hw621 : k0_chk621 i v48 v1811), ∀ (k0_h10 : k0_cond10 i v48 = 1#1), ∀ a, (k0_off1632 v1811) a + S1x128.size a ≤ S8192x128.size a := fun i v48 v1811 k0_hw621 k0_h10 => k0_hw621.2.2 k0_h10

def k0_off1633 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c103_i32 : BitVec 32 := 103#32
  let v1826 : BitVec 32 := Scalar.addi v74 c103_i32
  let v1827 : Index := Scalar.indexCast v1826
  ![v1827.toNat]
def k0_mult616 (v1828 : BitVec 32) : BitVec 32 :=
  let c3_i32_765 : BitVec 32 := 3#32
  let v1829 : BitVec 32 := Scalar.shrsi v1828 c3_i32_765
  let c8191_i32_766 : BitVec 32 := 8191#32
  let v1830 : BitVec 32 := Scalar.andi v1829 c8191_i32_766
  let c8_i32_767 : BitVec 32 := 8#32
  let v1831 : BitVec 32 := Scalar.muli v1830 c8_i32_767
  v1831

def k0_off1634 (v1828 : BitVec 32) : Fin 2 → Nat :=
  let c3_i32_765 : BitVec 32 := 3#32
  let v1829 : BitVec 32 := Scalar.shrsi v1828 c3_i32_765
  let c8191_i32_766 : BitVec 32 := 8191#32
  let v1830 : BitVec 32 := Scalar.andi v1829 c8191_i32_766
  let c8_i32_767 : BitVec 32 := 8#32
  let v1831 : BitVec 32 := Scalar.muli v1830 c8_i32_767
  let v1832 : BitVec 32 := v1831
  let v1833 : Index := Scalar.indexCast v1832
  let c0_768 : Index := 0#32
  ![v1833.toNat, 0]
def k0_off1635 (v1828 : BitVec 32) : Fin 2 → Nat :=
  let c3_i32_765 : BitVec 32 := 3#32
  let v1829 : BitVec 32 := Scalar.shrsi v1828 c3_i32_765
  let c8191_i32_766 : BitVec 32 := 8191#32
  let v1830 : BitVec 32 := Scalar.andi v1829 c8191_i32_766
  let v1838 : Index := Scalar.indexCast v1830
  let c0_770 : Index := 0#32
  ![v1838.toNat, 0]

def k0_chk622 (i : grid0.Coords) (v48 : BitVec 32) (v1828 : BitVec 32) : Prop :=
  (∀ (k0_h10 : k0_cond10 i v48 = 1#1), 8 ∣ (k0_mult616 v1828).toNat) ∧
  (∀ (k0_h10 : k0_cond10 i v48 = 1#1), ∀ a, (k0_off1634 v1828) a + S8x128.size a ≤ S65536x128.size a) ∧
  (∀ (k0_h10 : k0_cond10 i v48 = 1#1), ∀ a, (k0_off1635 v1828) a + S1x128.size a ≤ S8192x128.size a)
theorem k0_mult616_dvd : ∀ (i : grid0.Coords) (v48 : BitVec 32) (v1828 : BitVec 32) (k0_hw622 : k0_chk622 i v48 v1828), ∀ (k0_h10 : k0_cond10 i v48 = 1#1), 8 ∣ (k0_mult616 v1828).toNat := fun i v48 v1828 k0_hw622 k0_h10 => k0_hw622.1 k0_h10
theorem k0_off1634_inb : ∀ (i : grid0.Coords) (v48 : BitVec 32) (v1828 : BitVec 32) (k0_hw622 : k0_chk622 i v48 v1828), ∀ (k0_h10 : k0_cond10 i v48 = 1#1), ∀ a, (k0_off1634 v1828) a + S8x128.size a ≤ S65536x128.size a := fun i v48 v1828 k0_hw622 k0_h10 => k0_hw622.2.1 k0_h10
theorem k0_off1635_inb : ∀ (i : grid0.Coords) (v48 : BitVec 32) (v1828 : BitVec 32) (k0_hw622 : k0_chk622 i v48 v1828), ∀ (k0_h10 : k0_cond10 i v48 = 1#1), ∀ a, (k0_off1635 v1828) a + S1x128.size a ≤ S8192x128.size a := fun i v48 v1828 k0_hw622 k0_h10 => k0_hw622.2.2 k0_h10

def k0_off1636 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c104_i32 : BitVec 32 := 104#32
  let v1843 : BitVec 32 := Scalar.addi v74 c104_i32
  let v1844 : Index := Scalar.indexCast v1843
  ![v1844.toNat]
def k0_mult617 (v1845 : BitVec 32) : BitVec 32 :=
  let c3_i32_772 : BitVec 32 := 3#32
  let v1846 : BitVec 32 := Scalar.shrsi v1845 c3_i32_772
  let c8191_i32_773 : BitVec 32 := 8191#32
  let v1847 : BitVec 32 := Scalar.andi v1846 c8191_i32_773
  let c8_i32_774 : BitVec 32 := 8#32
  let v1848 : BitVec 32 := Scalar.muli v1847 c8_i32_774
  v1848

def k0_off1637 (v1845 : BitVec 32) : Fin 2 → Nat :=
  let c3_i32_772 : BitVec 32 := 3#32
  let v1846 : BitVec 32 := Scalar.shrsi v1845 c3_i32_772
  let c8191_i32_773 : BitVec 32 := 8191#32
  let v1847 : BitVec 32 := Scalar.andi v1846 c8191_i32_773
  let c8_i32_774 : BitVec 32 := 8#32
  let v1848 : BitVec 32 := Scalar.muli v1847 c8_i32_774
  let v1849 : BitVec 32 := v1848
  let v1850 : Index := Scalar.indexCast v1849
  let c0_775 : Index := 0#32
  ![v1850.toNat, 0]
def k0_off1638 (v1845 : BitVec 32) : Fin 2 → Nat :=
  let c3_i32_772 : BitVec 32 := 3#32
  let v1846 : BitVec 32 := Scalar.shrsi v1845 c3_i32_772
  let c8191_i32_773 : BitVec 32 := 8191#32
  let v1847 : BitVec 32 := Scalar.andi v1846 c8191_i32_773
  let v1855 : Index := Scalar.indexCast v1847
  let c0_777 : Index := 0#32
  ![v1855.toNat, 0]

def k0_chk623 (i : grid0.Coords) (v48 : BitVec 32) (v1845 : BitVec 32) : Prop :=
  (∀ (k0_h10 : k0_cond10 i v48 = 1#1), 8 ∣ (k0_mult617 v1845).toNat) ∧
  (∀ (k0_h10 : k0_cond10 i v48 = 1#1), ∀ a, (k0_off1637 v1845) a + S8x128.size a ≤ S65536x128.size a) ∧
  (∀ (k0_h10 : k0_cond10 i v48 = 1#1), ∀ a, (k0_off1638 v1845) a + S1x128.size a ≤ S8192x128.size a)
theorem k0_mult617_dvd : ∀ (i : grid0.Coords) (v48 : BitVec 32) (v1845 : BitVec 32) (k0_hw623 : k0_chk623 i v48 v1845), ∀ (k0_h10 : k0_cond10 i v48 = 1#1), 8 ∣ (k0_mult617 v1845).toNat := fun i v48 v1845 k0_hw623 k0_h10 => k0_hw623.1 k0_h10
theorem k0_off1637_inb : ∀ (i : grid0.Coords) (v48 : BitVec 32) (v1845 : BitVec 32) (k0_hw623 : k0_chk623 i v48 v1845), ∀ (k0_h10 : k0_cond10 i v48 = 1#1), ∀ a, (k0_off1637 v1845) a + S8x128.size a ≤ S65536x128.size a := fun i v48 v1845 k0_hw623 k0_h10 => k0_hw623.2.1 k0_h10
theorem k0_off1638_inb : ∀ (i : grid0.Coords) (v48 : BitVec 32) (v1845 : BitVec 32) (k0_hw623 : k0_chk623 i v48 v1845), ∀ (k0_h10 : k0_cond10 i v48 = 1#1), ∀ a, (k0_off1638 v1845) a + S1x128.size a ≤ S8192x128.size a := fun i v48 v1845 k0_hw623 k0_h10 => k0_hw623.2.2 k0_h10

def k0_off1639 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c105_i32 : BitVec 32 := 105#32
  let v1860 : BitVec 32 := Scalar.addi v74 c105_i32
  let v1861 : Index := Scalar.indexCast v1860
  ![v1861.toNat]
def k0_mult618 (v1862 : BitVec 32) : BitVec 32 :=
  let c3_i32_780 : BitVec 32 := 3#32
  let v1863 : BitVec 32 := Scalar.shrsi v1862 c3_i32_780
  let c8191_i32_781 : BitVec 32 := 8191#32
  let v1864 : BitVec 32 := Scalar.andi v1863 c8191_i32_781
  let c8_i32_782 : BitVec 32 := 8#32
  let v1865 : BitVec 32 := Scalar.muli v1864 c8_i32_782
  v1865

def k0_off1640 (v1862 : BitVec 32) : Fin 2 → Nat :=
  let c3_i32_780 : BitVec 32 := 3#32
  let v1863 : BitVec 32 := Scalar.shrsi v1862 c3_i32_780
  let c8191_i32_781 : BitVec 32 := 8191#32
  let v1864 : BitVec 32 := Scalar.andi v1863 c8191_i32_781
  let c8_i32_782 : BitVec 32 := 8#32
  let v1865 : BitVec 32 := Scalar.muli v1864 c8_i32_782
  let v1866 : BitVec 32 := v1865
  let v1867 : Index := Scalar.indexCast v1866
  let c0_783 : Index := 0#32
  ![v1867.toNat, 0]
def k0_off1641 (v1862 : BitVec 32) : Fin 2 → Nat :=
  let c3_i32_780 : BitVec 32 := 3#32
  let v1863 : BitVec 32 := Scalar.shrsi v1862 c3_i32_780
  let c8191_i32_781 : BitVec 32 := 8191#32
  let v1864 : BitVec 32 := Scalar.andi v1863 c8191_i32_781
  let v1872 : Index := Scalar.indexCast v1864
  let c0_785 : Index := 0#32
  ![v1872.toNat, 0]

def k0_chk624 (i : grid0.Coords) (v48 : BitVec 32) (v1862 : BitVec 32) : Prop :=
  (∀ (k0_h10 : k0_cond10 i v48 = 1#1), 8 ∣ (k0_mult618 v1862).toNat) ∧
  (∀ (k0_h10 : k0_cond10 i v48 = 1#1), ∀ a, (k0_off1640 v1862) a + S8x128.size a ≤ S65536x128.size a) ∧
  (∀ (k0_h10 : k0_cond10 i v48 = 1#1), ∀ a, (k0_off1641 v1862) a + S1x128.size a ≤ S8192x128.size a)
theorem k0_mult618_dvd : ∀ (i : grid0.Coords) (v48 : BitVec 32) (v1862 : BitVec 32) (k0_hw624 : k0_chk624 i v48 v1862), ∀ (k0_h10 : k0_cond10 i v48 = 1#1), 8 ∣ (k0_mult618 v1862).toNat := fun i v48 v1862 k0_hw624 k0_h10 => k0_hw624.1 k0_h10
theorem k0_off1640_inb : ∀ (i : grid0.Coords) (v48 : BitVec 32) (v1862 : BitVec 32) (k0_hw624 : k0_chk624 i v48 v1862), ∀ (k0_h10 : k0_cond10 i v48 = 1#1), ∀ a, (k0_off1640 v1862) a + S8x128.size a ≤ S65536x128.size a := fun i v48 v1862 k0_hw624 k0_h10 => k0_hw624.2.1 k0_h10
theorem k0_off1641_inb : ∀ (i : grid0.Coords) (v48 : BitVec 32) (v1862 : BitVec 32) (k0_hw624 : k0_chk624 i v48 v1862), ∀ (k0_h10 : k0_cond10 i v48 = 1#1), ∀ a, (k0_off1641 v1862) a + S1x128.size a ≤ S8192x128.size a := fun i v48 v1862 k0_hw624 k0_h10 => k0_hw624.2.2 k0_h10

def k0_off1642 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c106_i32 : BitVec 32 := 106#32
  let v1877 : BitVec 32 := Scalar.addi v74 c106_i32
  let v1878 : Index := Scalar.indexCast v1877
  ![v1878.toNat]
def k0_mult619 (v1879 : BitVec 32) : BitVec 32 :=
  let c3_i32_787 : BitVec 32 := 3#32
  let v1880 : BitVec 32 := Scalar.shrsi v1879 c3_i32_787
  let c8191_i32_788 : BitVec 32 := 8191#32
  let v1881 : BitVec 32 := Scalar.andi v1880 c8191_i32_788
  let c8_i32_789 : BitVec 32 := 8#32
  let v1882 : BitVec 32 := Scalar.muli v1881 c8_i32_789
  v1882

def k0_off1643 (v1879 : BitVec 32) : Fin 2 → Nat :=
  let c3_i32_787 : BitVec 32 := 3#32
  let v1880 : BitVec 32 := Scalar.shrsi v1879 c3_i32_787
  let c8191_i32_788 : BitVec 32 := 8191#32
  let v1881 : BitVec 32 := Scalar.andi v1880 c8191_i32_788
  let c8_i32_789 : BitVec 32 := 8#32
  let v1882 : BitVec 32 := Scalar.muli v1881 c8_i32_789
  let v1883 : BitVec 32 := v1882
  let v1884 : Index := Scalar.indexCast v1883
  let c0_790 : Index := 0#32
  ![v1884.toNat, 0]
def k0_off1644 (v1879 : BitVec 32) : Fin 2 → Nat :=
  let c3_i32_787 : BitVec 32 := 3#32
  let v1880 : BitVec 32 := Scalar.shrsi v1879 c3_i32_787
  let c8191_i32_788 : BitVec 32 := 8191#32
  let v1881 : BitVec 32 := Scalar.andi v1880 c8191_i32_788
  let v1889 : Index := Scalar.indexCast v1881
  let c0_792 : Index := 0#32
  ![v1889.toNat, 0]

def k0_chk625 (i : grid0.Coords) (v48 : BitVec 32) (v1879 : BitVec 32) : Prop :=
  (∀ (k0_h10 : k0_cond10 i v48 = 1#1), 8 ∣ (k0_mult619 v1879).toNat) ∧
  (∀ (k0_h10 : k0_cond10 i v48 = 1#1), ∀ a, (k0_off1643 v1879) a + S8x128.size a ≤ S65536x128.size a) ∧
  (∀ (k0_h10 : k0_cond10 i v48 = 1#1), ∀ a, (k0_off1644 v1879) a + S1x128.size a ≤ S8192x128.size a)
theorem k0_mult619_dvd : ∀ (i : grid0.Coords) (v48 : BitVec 32) (v1879 : BitVec 32) (k0_hw625 : k0_chk625 i v48 v1879), ∀ (k0_h10 : k0_cond10 i v48 = 1#1), 8 ∣ (k0_mult619 v1879).toNat := fun i v48 v1879 k0_hw625 k0_h10 => k0_hw625.1 k0_h10
theorem k0_off1643_inb : ∀ (i : grid0.Coords) (v48 : BitVec 32) (v1879 : BitVec 32) (k0_hw625 : k0_chk625 i v48 v1879), ∀ (k0_h10 : k0_cond10 i v48 = 1#1), ∀ a, (k0_off1643 v1879) a + S8x128.size a ≤ S65536x128.size a := fun i v48 v1879 k0_hw625 k0_h10 => k0_hw625.2.1 k0_h10
theorem k0_off1644_inb : ∀ (i : grid0.Coords) (v48 : BitVec 32) (v1879 : BitVec 32) (k0_hw625 : k0_chk625 i v48 v1879), ∀ (k0_h10 : k0_cond10 i v48 = 1#1), ∀ a, (k0_off1644 v1879) a + S1x128.size a ≤ S8192x128.size a := fun i v48 v1879 k0_hw625 k0_h10 => k0_hw625.2.2 k0_h10

def k0_off1645 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c107_i32 : BitVec 32 := 107#32
  let v1894 : BitVec 32 := Scalar.addi v74 c107_i32
  let v1895 : Index := Scalar.indexCast v1894
  ![v1895.toNat]
def k0_mult620 (v1896 : BitVec 32) : BitVec 32 :=
  let c3_i32_794 : BitVec 32 := 3#32
  let v1897 : BitVec 32 := Scalar.shrsi v1896 c3_i32_794
  let c8191_i32_795 : BitVec 32 := 8191#32
  let v1898 : BitVec 32 := Scalar.andi v1897 c8191_i32_795
  let c8_i32_796 : BitVec 32 := 8#32
  let v1899 : BitVec 32 := Scalar.muli v1898 c8_i32_796
  v1899

def k0_off1646 (v1896 : BitVec 32) : Fin 2 → Nat :=
  let c3_i32_794 : BitVec 32 := 3#32
  let v1897 : BitVec 32 := Scalar.shrsi v1896 c3_i32_794
  let c8191_i32_795 : BitVec 32 := 8191#32
  let v1898 : BitVec 32 := Scalar.andi v1897 c8191_i32_795
  let c8_i32_796 : BitVec 32 := 8#32
  let v1899 : BitVec 32 := Scalar.muli v1898 c8_i32_796
  let v1900 : BitVec 32 := v1899
  let v1901 : Index := Scalar.indexCast v1900
  let c0_797 : Index := 0#32
  ![v1901.toNat, 0]
def k0_off1647 (v1896 : BitVec 32) : Fin 2 → Nat :=
  let c3_i32_794 : BitVec 32 := 3#32
  let v1897 : BitVec 32 := Scalar.shrsi v1896 c3_i32_794
  let c8191_i32_795 : BitVec 32 := 8191#32
  let v1898 : BitVec 32 := Scalar.andi v1897 c8191_i32_795
  let v1906 : Index := Scalar.indexCast v1898
  let c0_799 : Index := 0#32
  ![v1906.toNat, 0]

def k0_chk626 (i : grid0.Coords) (v48 : BitVec 32) (v1896 : BitVec 32) : Prop :=
  (∀ (k0_h10 : k0_cond10 i v48 = 1#1), 8 ∣ (k0_mult620 v1896).toNat) ∧
  (∀ (k0_h10 : k0_cond10 i v48 = 1#1), ∀ a, (k0_off1646 v1896) a + S8x128.size a ≤ S65536x128.size a) ∧
  (∀ (k0_h10 : k0_cond10 i v48 = 1#1), ∀ a, (k0_off1647 v1896) a + S1x128.size a ≤ S8192x128.size a)
theorem k0_mult620_dvd : ∀ (i : grid0.Coords) (v48 : BitVec 32) (v1896 : BitVec 32) (k0_hw626 : k0_chk626 i v48 v1896), ∀ (k0_h10 : k0_cond10 i v48 = 1#1), 8 ∣ (k0_mult620 v1896).toNat := fun i v48 v1896 k0_hw626 k0_h10 => k0_hw626.1 k0_h10
theorem k0_off1646_inb : ∀ (i : grid0.Coords) (v48 : BitVec 32) (v1896 : BitVec 32) (k0_hw626 : k0_chk626 i v48 v1896), ∀ (k0_h10 : k0_cond10 i v48 = 1#1), ∀ a, (k0_off1646 v1896) a + S8x128.size a ≤ S65536x128.size a := fun i v48 v1896 k0_hw626 k0_h10 => k0_hw626.2.1 k0_h10
theorem k0_off1647_inb : ∀ (i : grid0.Coords) (v48 : BitVec 32) (v1896 : BitVec 32) (k0_hw626 : k0_chk626 i v48 v1896), ∀ (k0_h10 : k0_cond10 i v48 = 1#1), ∀ a, (k0_off1647 v1896) a + S1x128.size a ≤ S8192x128.size a := fun i v48 v1896 k0_hw626 k0_h10 => k0_hw626.2.2 k0_h10

def k0_off1648 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c108_i32 : BitVec 32 := 108#32
  let v1911 : BitVec 32 := Scalar.addi v74 c108_i32
  let v1912 : Index := Scalar.indexCast v1911
  ![v1912.toNat]
def k0_mult621 (v1913 : BitVec 32) : BitVec 32 :=
  let c3_i32_801 : BitVec 32 := 3#32
  let v1914 : BitVec 32 := Scalar.shrsi v1913 c3_i32_801
  let c8191_i32_802 : BitVec 32 := 8191#32
  let v1915 : BitVec 32 := Scalar.andi v1914 c8191_i32_802
  let c8_i32_803 : BitVec 32 := 8#32
  let v1916 : BitVec 32 := Scalar.muli v1915 c8_i32_803
  v1916

def k0_off1649 (v1913 : BitVec 32) : Fin 2 → Nat :=
  let c3_i32_801 : BitVec 32 := 3#32
  let v1914 : BitVec 32 := Scalar.shrsi v1913 c3_i32_801
  let c8191_i32_802 : BitVec 32 := 8191#32
  let v1915 : BitVec 32 := Scalar.andi v1914 c8191_i32_802
  let c8_i32_803 : BitVec 32 := 8#32
  let v1916 : BitVec 32 := Scalar.muli v1915 c8_i32_803
  let v1917 : BitVec 32 := v1916
  let v1918 : Index := Scalar.indexCast v1917
  let c0_804 : Index := 0#32
  ![v1918.toNat, 0]
def k0_off1650 (v1913 : BitVec 32) : Fin 2 → Nat :=
  let c3_i32_801 : BitVec 32 := 3#32
  let v1914 : BitVec 32 := Scalar.shrsi v1913 c3_i32_801
  let c8191_i32_802 : BitVec 32 := 8191#32
  let v1915 : BitVec 32 := Scalar.andi v1914 c8191_i32_802
  let v1923 : Index := Scalar.indexCast v1915
  let c0_806 : Index := 0#32
  ![v1923.toNat, 0]

def k0_chk627 (i : grid0.Coords) (v48 : BitVec 32) (v1913 : BitVec 32) : Prop :=
  (∀ (k0_h10 : k0_cond10 i v48 = 1#1), 8 ∣ (k0_mult621 v1913).toNat) ∧
  (∀ (k0_h10 : k0_cond10 i v48 = 1#1), ∀ a, (k0_off1649 v1913) a + S8x128.size a ≤ S65536x128.size a) ∧
  (∀ (k0_h10 : k0_cond10 i v48 = 1#1), ∀ a, (k0_off1650 v1913) a + S1x128.size a ≤ S8192x128.size a)
theorem k0_mult621_dvd : ∀ (i : grid0.Coords) (v48 : BitVec 32) (v1913 : BitVec 32) (k0_hw627 : k0_chk627 i v48 v1913), ∀ (k0_h10 : k0_cond10 i v48 = 1#1), 8 ∣ (k0_mult621 v1913).toNat := fun i v48 v1913 k0_hw627 k0_h10 => k0_hw627.1 k0_h10
theorem k0_off1649_inb : ∀ (i : grid0.Coords) (v48 : BitVec 32) (v1913 : BitVec 32) (k0_hw627 : k0_chk627 i v48 v1913), ∀ (k0_h10 : k0_cond10 i v48 = 1#1), ∀ a, (k0_off1649 v1913) a + S8x128.size a ≤ S65536x128.size a := fun i v48 v1913 k0_hw627 k0_h10 => k0_hw627.2.1 k0_h10
theorem k0_off1650_inb : ∀ (i : grid0.Coords) (v48 : BitVec 32) (v1913 : BitVec 32) (k0_hw627 : k0_chk627 i v48 v1913), ∀ (k0_h10 : k0_cond10 i v48 = 1#1), ∀ a, (k0_off1650 v1913) a + S1x128.size a ≤ S8192x128.size a := fun i v48 v1913 k0_hw627 k0_h10 => k0_hw627.2.2 k0_h10

def k0_off1651 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c109_i32 : BitVec 32 := 109#32
  let v1928 : BitVec 32 := Scalar.addi v74 c109_i32
  let v1929 : Index := Scalar.indexCast v1928
  ![v1929.toNat]
def k0_mult622 (v1930 : BitVec 32) : BitVec 32 :=
  let c3_i32_808 : BitVec 32 := 3#32
  let v1931 : BitVec 32 := Scalar.shrsi v1930 c3_i32_808
  let c8191_i32_809 : BitVec 32 := 8191#32
  let v1932 : BitVec 32 := Scalar.andi v1931 c8191_i32_809
  let c8_i32_810 : BitVec 32 := 8#32
  let v1933 : BitVec 32 := Scalar.muli v1932 c8_i32_810
  v1933

def k0_off1652 (v1930 : BitVec 32) : Fin 2 → Nat :=
  let c3_i32_808 : BitVec 32 := 3#32
  let v1931 : BitVec 32 := Scalar.shrsi v1930 c3_i32_808
  let c8191_i32_809 : BitVec 32 := 8191#32
  let v1932 : BitVec 32 := Scalar.andi v1931 c8191_i32_809
  let c8_i32_810 : BitVec 32 := 8#32
  let v1933 : BitVec 32 := Scalar.muli v1932 c8_i32_810
  let v1934 : BitVec 32 := v1933
  let v1935 : Index := Scalar.indexCast v1934
  let c0_811 : Index := 0#32
  ![v1935.toNat, 0]
def k0_off1653 (v1930 : BitVec 32) : Fin 2 → Nat :=
  let c3_i32_808 : BitVec 32 := 3#32
  let v1931 : BitVec 32 := Scalar.shrsi v1930 c3_i32_808
  let c8191_i32_809 : BitVec 32 := 8191#32
  let v1932 : BitVec 32 := Scalar.andi v1931 c8191_i32_809
  let v1940 : Index := Scalar.indexCast v1932
  let c0_813 : Index := 0#32
  ![v1940.toNat, 0]

def k0_chk628 (i : grid0.Coords) (v48 : BitVec 32) (v1930 : BitVec 32) : Prop :=
  (∀ (k0_h10 : k0_cond10 i v48 = 1#1), 8 ∣ (k0_mult622 v1930).toNat) ∧
  (∀ (k0_h10 : k0_cond10 i v48 = 1#1), ∀ a, (k0_off1652 v1930) a + S8x128.size a ≤ S65536x128.size a) ∧
  (∀ (k0_h10 : k0_cond10 i v48 = 1#1), ∀ a, (k0_off1653 v1930) a + S1x128.size a ≤ S8192x128.size a)
theorem k0_mult622_dvd : ∀ (i : grid0.Coords) (v48 : BitVec 32) (v1930 : BitVec 32) (k0_hw628 : k0_chk628 i v48 v1930), ∀ (k0_h10 : k0_cond10 i v48 = 1#1), 8 ∣ (k0_mult622 v1930).toNat := fun i v48 v1930 k0_hw628 k0_h10 => k0_hw628.1 k0_h10
theorem k0_off1652_inb : ∀ (i : grid0.Coords) (v48 : BitVec 32) (v1930 : BitVec 32) (k0_hw628 : k0_chk628 i v48 v1930), ∀ (k0_h10 : k0_cond10 i v48 = 1#1), ∀ a, (k0_off1652 v1930) a + S8x128.size a ≤ S65536x128.size a := fun i v48 v1930 k0_hw628 k0_h10 => k0_hw628.2.1 k0_h10
theorem k0_off1653_inb : ∀ (i : grid0.Coords) (v48 : BitVec 32) (v1930 : BitVec 32) (k0_hw628 : k0_chk628 i v48 v1930), ∀ (k0_h10 : k0_cond10 i v48 = 1#1), ∀ a, (k0_off1653 v1930) a + S1x128.size a ≤ S8192x128.size a := fun i v48 v1930 k0_hw628 k0_h10 => k0_hw628.2.2 k0_h10

def k0_off1654 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c110_i32 : BitVec 32 := 110#32
  let v1945 : BitVec 32 := Scalar.addi v74 c110_i32
  let v1946 : Index := Scalar.indexCast v1945
  ![v1946.toNat]
def k0_mult623 (v1947 : BitVec 32) : BitVec 32 :=
  let c3_i32_815 : BitVec 32 := 3#32
  let v1948 : BitVec 32 := Scalar.shrsi v1947 c3_i32_815
  let c8191_i32_816 : BitVec 32 := 8191#32
  let v1949 : BitVec 32 := Scalar.andi v1948 c8191_i32_816
  let c8_i32_817 : BitVec 32 := 8#32
  let v1950 : BitVec 32 := Scalar.muli v1949 c8_i32_817
  v1950

def k0_off1655 (v1947 : BitVec 32) : Fin 2 → Nat :=
  let c3_i32_815 : BitVec 32 := 3#32
  let v1948 : BitVec 32 := Scalar.shrsi v1947 c3_i32_815
  let c8191_i32_816 : BitVec 32 := 8191#32
  let v1949 : BitVec 32 := Scalar.andi v1948 c8191_i32_816
  let c8_i32_817 : BitVec 32 := 8#32
  let v1950 : BitVec 32 := Scalar.muli v1949 c8_i32_817
  let v1951 : BitVec 32 := v1950
  let v1952 : Index := Scalar.indexCast v1951
  let c0_818 : Index := 0#32
  ![v1952.toNat, 0]
def k0_off1656 (v1947 : BitVec 32) : Fin 2 → Nat :=
  let c3_i32_815 : BitVec 32 := 3#32
  let v1948 : BitVec 32 := Scalar.shrsi v1947 c3_i32_815
  let c8191_i32_816 : BitVec 32 := 8191#32
  let v1949 : BitVec 32 := Scalar.andi v1948 c8191_i32_816
  let v1957 : Index := Scalar.indexCast v1949
  let c0_820 : Index := 0#32
  ![v1957.toNat, 0]

def k0_chk629 (i : grid0.Coords) (v48 : BitVec 32) (v1947 : BitVec 32) : Prop :=
  (∀ (k0_h10 : k0_cond10 i v48 = 1#1), 8 ∣ (k0_mult623 v1947).toNat) ∧
  (∀ (k0_h10 : k0_cond10 i v48 = 1#1), ∀ a, (k0_off1655 v1947) a + S8x128.size a ≤ S65536x128.size a) ∧
  (∀ (k0_h10 : k0_cond10 i v48 = 1#1), ∀ a, (k0_off1656 v1947) a + S1x128.size a ≤ S8192x128.size a)
theorem k0_mult623_dvd : ∀ (i : grid0.Coords) (v48 : BitVec 32) (v1947 : BitVec 32) (k0_hw629 : k0_chk629 i v48 v1947), ∀ (k0_h10 : k0_cond10 i v48 = 1#1), 8 ∣ (k0_mult623 v1947).toNat := fun i v48 v1947 k0_hw629 k0_h10 => k0_hw629.1 k0_h10
theorem k0_off1655_inb : ∀ (i : grid0.Coords) (v48 : BitVec 32) (v1947 : BitVec 32) (k0_hw629 : k0_chk629 i v48 v1947), ∀ (k0_h10 : k0_cond10 i v48 = 1#1), ∀ a, (k0_off1655 v1947) a + S8x128.size a ≤ S65536x128.size a := fun i v48 v1947 k0_hw629 k0_h10 => k0_hw629.2.1 k0_h10
theorem k0_off1656_inb : ∀ (i : grid0.Coords) (v48 : BitVec 32) (v1947 : BitVec 32) (k0_hw629 : k0_chk629 i v48 v1947), ∀ (k0_h10 : k0_cond10 i v48 = 1#1), ∀ a, (k0_off1656 v1947) a + S1x128.size a ≤ S8192x128.size a := fun i v48 v1947 k0_hw629 k0_h10 => k0_hw629.2.2 k0_h10

def k0_off1657 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c111_i32 : BitVec 32 := 111#32
  let v1962 : BitVec 32 := Scalar.addi v74 c111_i32
  let v1963 : Index := Scalar.indexCast v1962
  ![v1963.toNat]
def k0_mult624 (v1964 : BitVec 32) : BitVec 32 :=
  let c3_i32_822 : BitVec 32 := 3#32
  let v1965 : BitVec 32 := Scalar.shrsi v1964 c3_i32_822
  let c8191_i32_823 : BitVec 32 := 8191#32
  let v1966 : BitVec 32 := Scalar.andi v1965 c8191_i32_823
  let c8_i32_824 : BitVec 32 := 8#32
  let v1967 : BitVec 32 := Scalar.muli v1966 c8_i32_824
  v1967

def k0_off1658 (v1964 : BitVec 32) : Fin 2 → Nat :=
  let c3_i32_822 : BitVec 32 := 3#32
  let v1965 : BitVec 32 := Scalar.shrsi v1964 c3_i32_822
  let c8191_i32_823 : BitVec 32 := 8191#32
  let v1966 : BitVec 32 := Scalar.andi v1965 c8191_i32_823
  let c8_i32_824 : BitVec 32 := 8#32
  let v1967 : BitVec 32 := Scalar.muli v1966 c8_i32_824
  let v1968 : BitVec 32 := v1967
  let v1969 : Index := Scalar.indexCast v1968
  let c0_825 : Index := 0#32
  ![v1969.toNat, 0]
def k0_off1659 (v1964 : BitVec 32) : Fin 2 → Nat :=
  let c3_i32_822 : BitVec 32 := 3#32
  let v1965 : BitVec 32 := Scalar.shrsi v1964 c3_i32_822
  let c8191_i32_823 : BitVec 32 := 8191#32
  let v1966 : BitVec 32 := Scalar.andi v1965 c8191_i32_823
  let v1974 : Index := Scalar.indexCast v1966
  let c0_827 : Index := 0#32
  ![v1974.toNat, 0]

def k0_chk630 (i : grid0.Coords) (v48 : BitVec 32) (v1964 : BitVec 32) : Prop :=
  (∀ (k0_h10 : k0_cond10 i v48 = 1#1), 8 ∣ (k0_mult624 v1964).toNat) ∧
  (∀ (k0_h10 : k0_cond10 i v48 = 1#1), ∀ a, (k0_off1658 v1964) a + S8x128.size a ≤ S65536x128.size a) ∧
  (∀ (k0_h10 : k0_cond10 i v48 = 1#1), ∀ a, (k0_off1659 v1964) a + S1x128.size a ≤ S8192x128.size a)
theorem k0_mult624_dvd : ∀ (i : grid0.Coords) (v48 : BitVec 32) (v1964 : BitVec 32) (k0_hw630 : k0_chk630 i v48 v1964), ∀ (k0_h10 : k0_cond10 i v48 = 1#1), 8 ∣ (k0_mult624 v1964).toNat := fun i v48 v1964 k0_hw630 k0_h10 => k0_hw630.1 k0_h10
theorem k0_off1658_inb : ∀ (i : grid0.Coords) (v48 : BitVec 32) (v1964 : BitVec 32) (k0_hw630 : k0_chk630 i v48 v1964), ∀ (k0_h10 : k0_cond10 i v48 = 1#1), ∀ a, (k0_off1658 v1964) a + S8x128.size a ≤ S65536x128.size a := fun i v48 v1964 k0_hw630 k0_h10 => k0_hw630.2.1 k0_h10
theorem k0_off1659_inb : ∀ (i : grid0.Coords) (v48 : BitVec 32) (v1964 : BitVec 32) (k0_hw630 : k0_chk630 i v48 v1964), ∀ (k0_h10 : k0_cond10 i v48 = 1#1), ∀ a, (k0_off1659 v1964) a + S1x128.size a ≤ S8192x128.size a := fun i v48 v1964 k0_hw630 k0_h10 => k0_hw630.2.2 k0_h10

def k0_off1660 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c112_i32 : BitVec 32 := 112#32
  let v1979 : BitVec 32 := Scalar.addi v74 c112_i32
  let v1980 : Index := Scalar.indexCast v1979
  ![v1980.toNat]
def k0_mult625 (v1981 : BitVec 32) : BitVec 32 :=
  let c3_i32_829 : BitVec 32 := 3#32
  let v1982 : BitVec 32 := Scalar.shrsi v1981 c3_i32_829
  let c8191_i32_830 : BitVec 32 := 8191#32
  let v1983 : BitVec 32 := Scalar.andi v1982 c8191_i32_830
  let c8_i32_831 : BitVec 32 := 8#32
  let v1984 : BitVec 32 := Scalar.muli v1983 c8_i32_831
  v1984

def k0_off1661 (v1981 : BitVec 32) : Fin 2 → Nat :=
  let c3_i32_829 : BitVec 32 := 3#32
  let v1982 : BitVec 32 := Scalar.shrsi v1981 c3_i32_829
  let c8191_i32_830 : BitVec 32 := 8191#32
  let v1983 : BitVec 32 := Scalar.andi v1982 c8191_i32_830
  let c8_i32_831 : BitVec 32 := 8#32
  let v1984 : BitVec 32 := Scalar.muli v1983 c8_i32_831
  let v1985 : BitVec 32 := v1984
  let v1986 : Index := Scalar.indexCast v1985
  let c0_832 : Index := 0#32
  ![v1986.toNat, 0]
def k0_off1662 (v1981 : BitVec 32) : Fin 2 → Nat :=
  let c3_i32_829 : BitVec 32 := 3#32
  let v1982 : BitVec 32 := Scalar.shrsi v1981 c3_i32_829
  let c8191_i32_830 : BitVec 32 := 8191#32
  let v1983 : BitVec 32 := Scalar.andi v1982 c8191_i32_830
  let v1991 : Index := Scalar.indexCast v1983
  let c0_834 : Index := 0#32
  ![v1991.toNat, 0]

def k0_chk631 (i : grid0.Coords) (v48 : BitVec 32) (v1981 : BitVec 32) : Prop :=
  (∀ (k0_h10 : k0_cond10 i v48 = 1#1), 8 ∣ (k0_mult625 v1981).toNat) ∧
  (∀ (k0_h10 : k0_cond10 i v48 = 1#1), ∀ a, (k0_off1661 v1981) a + S8x128.size a ≤ S65536x128.size a) ∧
  (∀ (k0_h10 : k0_cond10 i v48 = 1#1), ∀ a, (k0_off1662 v1981) a + S1x128.size a ≤ S8192x128.size a)
theorem k0_mult625_dvd : ∀ (i : grid0.Coords) (v48 : BitVec 32) (v1981 : BitVec 32) (k0_hw631 : k0_chk631 i v48 v1981), ∀ (k0_h10 : k0_cond10 i v48 = 1#1), 8 ∣ (k0_mult625 v1981).toNat := fun i v48 v1981 k0_hw631 k0_h10 => k0_hw631.1 k0_h10
theorem k0_off1661_inb : ∀ (i : grid0.Coords) (v48 : BitVec 32) (v1981 : BitVec 32) (k0_hw631 : k0_chk631 i v48 v1981), ∀ (k0_h10 : k0_cond10 i v48 = 1#1), ∀ a, (k0_off1661 v1981) a + S8x128.size a ≤ S65536x128.size a := fun i v48 v1981 k0_hw631 k0_h10 => k0_hw631.2.1 k0_h10
theorem k0_off1662_inb : ∀ (i : grid0.Coords) (v48 : BitVec 32) (v1981 : BitVec 32) (k0_hw631 : k0_chk631 i v48 v1981), ∀ (k0_h10 : k0_cond10 i v48 = 1#1), ∀ a, (k0_off1662 v1981) a + S1x128.size a ≤ S8192x128.size a := fun i v48 v1981 k0_hw631 k0_h10 => k0_hw631.2.2 k0_h10

def k0_off1663 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c113_i32 : BitVec 32 := 113#32
  let v1996 : BitVec 32 := Scalar.addi v74 c113_i32
  let v1997 : Index := Scalar.indexCast v1996
  ![v1997.toNat]
def k0_mult626 (v1998 : BitVec 32) : BitVec 32 :=
  let c3_i32_837 : BitVec 32 := 3#32
  let v1999 : BitVec 32 := Scalar.shrsi v1998 c3_i32_837
  let c8191_i32_838 : BitVec 32 := 8191#32
  let v2000 : BitVec 32 := Scalar.andi v1999 c8191_i32_838
  let c8_i32_839 : BitVec 32 := 8#32
  let v2001 : BitVec 32 := Scalar.muli v2000 c8_i32_839
  v2001

def k0_off1664 (v1998 : BitVec 32) : Fin 2 → Nat :=
  let c3_i32_837 : BitVec 32 := 3#32
  let v1999 : BitVec 32 := Scalar.shrsi v1998 c3_i32_837
  let c8191_i32_838 : BitVec 32 := 8191#32
  let v2000 : BitVec 32 := Scalar.andi v1999 c8191_i32_838
  let c8_i32_839 : BitVec 32 := 8#32
  let v2001 : BitVec 32 := Scalar.muli v2000 c8_i32_839
  let v2002 : BitVec 32 := v2001
  let v2003 : Index := Scalar.indexCast v2002
  let c0_840 : Index := 0#32
  ![v2003.toNat, 0]
def k0_off1665 (v1998 : BitVec 32) : Fin 2 → Nat :=
  let c3_i32_837 : BitVec 32 := 3#32
  let v1999 : BitVec 32 := Scalar.shrsi v1998 c3_i32_837
  let c8191_i32_838 : BitVec 32 := 8191#32
  let v2000 : BitVec 32 := Scalar.andi v1999 c8191_i32_838
  let v2008 : Index := Scalar.indexCast v2000
  let c0_842 : Index := 0#32
  ![v2008.toNat, 0]

def k0_chk632 (i : grid0.Coords) (v48 : BitVec 32) (v1998 : BitVec 32) : Prop :=
  (∀ (k0_h10 : k0_cond10 i v48 = 1#1), 8 ∣ (k0_mult626 v1998).toNat) ∧
  (∀ (k0_h10 : k0_cond10 i v48 = 1#1), ∀ a, (k0_off1664 v1998) a + S8x128.size a ≤ S65536x128.size a) ∧
  (∀ (k0_h10 : k0_cond10 i v48 = 1#1), ∀ a, (k0_off1665 v1998) a + S1x128.size a ≤ S8192x128.size a)
theorem k0_mult626_dvd : ∀ (i : grid0.Coords) (v48 : BitVec 32) (v1998 : BitVec 32) (k0_hw632 : k0_chk632 i v48 v1998), ∀ (k0_h10 : k0_cond10 i v48 = 1#1), 8 ∣ (k0_mult626 v1998).toNat := fun i v48 v1998 k0_hw632 k0_h10 => k0_hw632.1 k0_h10
theorem k0_off1664_inb : ∀ (i : grid0.Coords) (v48 : BitVec 32) (v1998 : BitVec 32) (k0_hw632 : k0_chk632 i v48 v1998), ∀ (k0_h10 : k0_cond10 i v48 = 1#1), ∀ a, (k0_off1664 v1998) a + S8x128.size a ≤ S65536x128.size a := fun i v48 v1998 k0_hw632 k0_h10 => k0_hw632.2.1 k0_h10
theorem k0_off1665_inb : ∀ (i : grid0.Coords) (v48 : BitVec 32) (v1998 : BitVec 32) (k0_hw632 : k0_chk632 i v48 v1998), ∀ (k0_h10 : k0_cond10 i v48 = 1#1), ∀ a, (k0_off1665 v1998) a + S1x128.size a ≤ S8192x128.size a := fun i v48 v1998 k0_hw632 k0_h10 => k0_hw632.2.2 k0_h10

def k0_off1666 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c114_i32 : BitVec 32 := 114#32
  let v2013 : BitVec 32 := Scalar.addi v74 c114_i32
  let v2014 : Index := Scalar.indexCast v2013
  ![v2014.toNat]
def k0_mult627 (v2015 : BitVec 32) : BitVec 32 :=
  let c3_i32_844 : BitVec 32 := 3#32
  let v2016 : BitVec 32 := Scalar.shrsi v2015 c3_i32_844
  let c8191_i32_845 : BitVec 32 := 8191#32
  let v2017 : BitVec 32 := Scalar.andi v2016 c8191_i32_845
  let c8_i32_846 : BitVec 32 := 8#32
  let v2018 : BitVec 32 := Scalar.muli v2017 c8_i32_846
  v2018

def k0_off1667 (v2015 : BitVec 32) : Fin 2 → Nat :=
  let c3_i32_844 : BitVec 32 := 3#32
  let v2016 : BitVec 32 := Scalar.shrsi v2015 c3_i32_844
  let c8191_i32_845 : BitVec 32 := 8191#32
  let v2017 : BitVec 32 := Scalar.andi v2016 c8191_i32_845
  let c8_i32_846 : BitVec 32 := 8#32
  let v2018 : BitVec 32 := Scalar.muli v2017 c8_i32_846
  let v2019 : BitVec 32 := v2018
  let v2020 : Index := Scalar.indexCast v2019
  let c0_847 : Index := 0#32
  ![v2020.toNat, 0]
def k0_off1668 (v2015 : BitVec 32) : Fin 2 → Nat :=
  let c3_i32_844 : BitVec 32 := 3#32
  let v2016 : BitVec 32 := Scalar.shrsi v2015 c3_i32_844
  let c8191_i32_845 : BitVec 32 := 8191#32
  let v2017 : BitVec 32 := Scalar.andi v2016 c8191_i32_845
  let v2025 : Index := Scalar.indexCast v2017
  let c0_849 : Index := 0#32
  ![v2025.toNat, 0]

def k0_chk633 (i : grid0.Coords) (v48 : BitVec 32) (v2015 : BitVec 32) : Prop :=
  (∀ (k0_h10 : k0_cond10 i v48 = 1#1), 8 ∣ (k0_mult627 v2015).toNat) ∧
  (∀ (k0_h10 : k0_cond10 i v48 = 1#1), ∀ a, (k0_off1667 v2015) a + S8x128.size a ≤ S65536x128.size a) ∧
  (∀ (k0_h10 : k0_cond10 i v48 = 1#1), ∀ a, (k0_off1668 v2015) a + S1x128.size a ≤ S8192x128.size a)
theorem k0_mult627_dvd : ∀ (i : grid0.Coords) (v48 : BitVec 32) (v2015 : BitVec 32) (k0_hw633 : k0_chk633 i v48 v2015), ∀ (k0_h10 : k0_cond10 i v48 = 1#1), 8 ∣ (k0_mult627 v2015).toNat := fun i v48 v2015 k0_hw633 k0_h10 => k0_hw633.1 k0_h10
theorem k0_off1667_inb : ∀ (i : grid0.Coords) (v48 : BitVec 32) (v2015 : BitVec 32) (k0_hw633 : k0_chk633 i v48 v2015), ∀ (k0_h10 : k0_cond10 i v48 = 1#1), ∀ a, (k0_off1667 v2015) a + S8x128.size a ≤ S65536x128.size a := fun i v48 v2015 k0_hw633 k0_h10 => k0_hw633.2.1 k0_h10
theorem k0_off1668_inb : ∀ (i : grid0.Coords) (v48 : BitVec 32) (v2015 : BitVec 32) (k0_hw633 : k0_chk633 i v48 v2015), ∀ (k0_h10 : k0_cond10 i v48 = 1#1), ∀ a, (k0_off1668 v2015) a + S1x128.size a ≤ S8192x128.size a := fun i v48 v2015 k0_hw633 k0_h10 => k0_hw633.2.2 k0_h10

def k0_off1669 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c115_i32 : BitVec 32 := 115#32
  let v2030 : BitVec 32 := Scalar.addi v74 c115_i32
  let v2031 : Index := Scalar.indexCast v2030
  ![v2031.toNat]
def k0_mult628 (v2032 : BitVec 32) : BitVec 32 :=
  let c3_i32_851 : BitVec 32 := 3#32
  let v2033 : BitVec 32 := Scalar.shrsi v2032 c3_i32_851
  let c8191_i32_852 : BitVec 32 := 8191#32
  let v2034 : BitVec 32 := Scalar.andi v2033 c8191_i32_852
  let c8_i32_853 : BitVec 32 := 8#32
  let v2035 : BitVec 32 := Scalar.muli v2034 c8_i32_853
  v2035

def k0_off1670 (v2032 : BitVec 32) : Fin 2 → Nat :=
  let c3_i32_851 : BitVec 32 := 3#32
  let v2033 : BitVec 32 := Scalar.shrsi v2032 c3_i32_851
  let c8191_i32_852 : BitVec 32 := 8191#32
  let v2034 : BitVec 32 := Scalar.andi v2033 c8191_i32_852
  let c8_i32_853 : BitVec 32 := 8#32
  let v2035 : BitVec 32 := Scalar.muli v2034 c8_i32_853
  let v2036 : BitVec 32 := v2035
  let v2037 : Index := Scalar.indexCast v2036
  let c0_854 : Index := 0#32
  ![v2037.toNat, 0]
def k0_off1671 (v2032 : BitVec 32) : Fin 2 → Nat :=
  let c3_i32_851 : BitVec 32 := 3#32
  let v2033 : BitVec 32 := Scalar.shrsi v2032 c3_i32_851
  let c8191_i32_852 : BitVec 32 := 8191#32
  let v2034 : BitVec 32 := Scalar.andi v2033 c8191_i32_852
  let v2042 : Index := Scalar.indexCast v2034
  let c0_856 : Index := 0#32
  ![v2042.toNat, 0]

def k0_chk634 (i : grid0.Coords) (v48 : BitVec 32) (v2032 : BitVec 32) : Prop :=
  (∀ (k0_h10 : k0_cond10 i v48 = 1#1), 8 ∣ (k0_mult628 v2032).toNat) ∧
  (∀ (k0_h10 : k0_cond10 i v48 = 1#1), ∀ a, (k0_off1670 v2032) a + S8x128.size a ≤ S65536x128.size a) ∧
  (∀ (k0_h10 : k0_cond10 i v48 = 1#1), ∀ a, (k0_off1671 v2032) a + S1x128.size a ≤ S8192x128.size a)
theorem k0_mult628_dvd : ∀ (i : grid0.Coords) (v48 : BitVec 32) (v2032 : BitVec 32) (k0_hw634 : k0_chk634 i v48 v2032), ∀ (k0_h10 : k0_cond10 i v48 = 1#1), 8 ∣ (k0_mult628 v2032).toNat := fun i v48 v2032 k0_hw634 k0_h10 => k0_hw634.1 k0_h10
theorem k0_off1670_inb : ∀ (i : grid0.Coords) (v48 : BitVec 32) (v2032 : BitVec 32) (k0_hw634 : k0_chk634 i v48 v2032), ∀ (k0_h10 : k0_cond10 i v48 = 1#1), ∀ a, (k0_off1670 v2032) a + S8x128.size a ≤ S65536x128.size a := fun i v48 v2032 k0_hw634 k0_h10 => k0_hw634.2.1 k0_h10
theorem k0_off1671_inb : ∀ (i : grid0.Coords) (v48 : BitVec 32) (v2032 : BitVec 32) (k0_hw634 : k0_chk634 i v48 v2032), ∀ (k0_h10 : k0_cond10 i v48 = 1#1), ∀ a, (k0_off1671 v2032) a + S1x128.size a ≤ S8192x128.size a := fun i v48 v2032 k0_hw634 k0_h10 => k0_hw634.2.2 k0_h10

def k0_off1672 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c116_i32 : BitVec 32 := 116#32
  let v2047 : BitVec 32 := Scalar.addi v74 c116_i32
  let v2048 : Index := Scalar.indexCast v2047
  ![v2048.toNat]
def k0_mult629 (v2049 : BitVec 32) : BitVec 32 :=
  let c3_i32_858 : BitVec 32 := 3#32
  let v2050 : BitVec 32 := Scalar.shrsi v2049 c3_i32_858
  let c8191_i32_859 : BitVec 32 := 8191#32
  let v2051 : BitVec 32 := Scalar.andi v2050 c8191_i32_859
  let c8_i32_860 : BitVec 32 := 8#32
  let v2052 : BitVec 32 := Scalar.muli v2051 c8_i32_860
  v2052

def k0_off1673 (v2049 : BitVec 32) : Fin 2 → Nat :=
  let c3_i32_858 : BitVec 32 := 3#32
  let v2050 : BitVec 32 := Scalar.shrsi v2049 c3_i32_858
  let c8191_i32_859 : BitVec 32 := 8191#32
  let v2051 : BitVec 32 := Scalar.andi v2050 c8191_i32_859
  let c8_i32_860 : BitVec 32 := 8#32
  let v2052 : BitVec 32 := Scalar.muli v2051 c8_i32_860
  let v2053 : BitVec 32 := v2052
  let v2054 : Index := Scalar.indexCast v2053
  let c0_861 : Index := 0#32
  ![v2054.toNat, 0]
def k0_off1674 (v2049 : BitVec 32) : Fin 2 → Nat :=
  let c3_i32_858 : BitVec 32 := 3#32
  let v2050 : BitVec 32 := Scalar.shrsi v2049 c3_i32_858
  let c8191_i32_859 : BitVec 32 := 8191#32
  let v2051 : BitVec 32 := Scalar.andi v2050 c8191_i32_859
  let v2059 : Index := Scalar.indexCast v2051
  let c0_863 : Index := 0#32
  ![v2059.toNat, 0]

def k0_chk635 (i : grid0.Coords) (v48 : BitVec 32) (v2049 : BitVec 32) : Prop :=
  (∀ (k0_h10 : k0_cond10 i v48 = 1#1), 8 ∣ (k0_mult629 v2049).toNat) ∧
  (∀ (k0_h10 : k0_cond10 i v48 = 1#1), ∀ a, (k0_off1673 v2049) a + S8x128.size a ≤ S65536x128.size a) ∧
  (∀ (k0_h10 : k0_cond10 i v48 = 1#1), ∀ a, (k0_off1674 v2049) a + S1x128.size a ≤ S8192x128.size a)
theorem k0_mult629_dvd : ∀ (i : grid0.Coords) (v48 : BitVec 32) (v2049 : BitVec 32) (k0_hw635 : k0_chk635 i v48 v2049), ∀ (k0_h10 : k0_cond10 i v48 = 1#1), 8 ∣ (k0_mult629 v2049).toNat := fun i v48 v2049 k0_hw635 k0_h10 => k0_hw635.1 k0_h10
theorem k0_off1673_inb : ∀ (i : grid0.Coords) (v48 : BitVec 32) (v2049 : BitVec 32) (k0_hw635 : k0_chk635 i v48 v2049), ∀ (k0_h10 : k0_cond10 i v48 = 1#1), ∀ a, (k0_off1673 v2049) a + S8x128.size a ≤ S65536x128.size a := fun i v48 v2049 k0_hw635 k0_h10 => k0_hw635.2.1 k0_h10
theorem k0_off1674_inb : ∀ (i : grid0.Coords) (v48 : BitVec 32) (v2049 : BitVec 32) (k0_hw635 : k0_chk635 i v48 v2049), ∀ (k0_h10 : k0_cond10 i v48 = 1#1), ∀ a, (k0_off1674 v2049) a + S1x128.size a ≤ S8192x128.size a := fun i v48 v2049 k0_hw635 k0_h10 => k0_hw635.2.2 k0_h10

def k0_off1675 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c117_i32 : BitVec 32 := 117#32
  let v2064 : BitVec 32 := Scalar.addi v74 c117_i32
  let v2065 : Index := Scalar.indexCast v2064
  ![v2065.toNat]
def k0_mult630 (v2066 : BitVec 32) : BitVec 32 :=
  let c3_i32_865 : BitVec 32 := 3#32
  let v2067 : BitVec 32 := Scalar.shrsi v2066 c3_i32_865
  let c8191_i32_866 : BitVec 32 := 8191#32
  let v2068 : BitVec 32 := Scalar.andi v2067 c8191_i32_866
  let c8_i32_867 : BitVec 32 := 8#32
  let v2069 : BitVec 32 := Scalar.muli v2068 c8_i32_867
  v2069

def k0_off1676 (v2066 : BitVec 32) : Fin 2 → Nat :=
  let c3_i32_865 : BitVec 32 := 3#32
  let v2067 : BitVec 32 := Scalar.shrsi v2066 c3_i32_865
  let c8191_i32_866 : BitVec 32 := 8191#32
  let v2068 : BitVec 32 := Scalar.andi v2067 c8191_i32_866
  let c8_i32_867 : BitVec 32 := 8#32
  let v2069 : BitVec 32 := Scalar.muli v2068 c8_i32_867
  let v2070 : BitVec 32 := v2069
  let v2071 : Index := Scalar.indexCast v2070
  let c0_868 : Index := 0#32
  ![v2071.toNat, 0]
def k0_off1677 (v2066 : BitVec 32) : Fin 2 → Nat :=
  let c3_i32_865 : BitVec 32 := 3#32
  let v2067 : BitVec 32 := Scalar.shrsi v2066 c3_i32_865
  let c8191_i32_866 : BitVec 32 := 8191#32
  let v2068 : BitVec 32 := Scalar.andi v2067 c8191_i32_866
  let v2076 : Index := Scalar.indexCast v2068
  let c0_870 : Index := 0#32
  ![v2076.toNat, 0]

def k0_chk636 (i : grid0.Coords) (v48 : BitVec 32) (v2066 : BitVec 32) : Prop :=
  (∀ (k0_h10 : k0_cond10 i v48 = 1#1), 8 ∣ (k0_mult630 v2066).toNat) ∧
  (∀ (k0_h10 : k0_cond10 i v48 = 1#1), ∀ a, (k0_off1676 v2066) a + S8x128.size a ≤ S65536x128.size a) ∧
  (∀ (k0_h10 : k0_cond10 i v48 = 1#1), ∀ a, (k0_off1677 v2066) a + S1x128.size a ≤ S8192x128.size a)
theorem k0_mult630_dvd : ∀ (i : grid0.Coords) (v48 : BitVec 32) (v2066 : BitVec 32) (k0_hw636 : k0_chk636 i v48 v2066), ∀ (k0_h10 : k0_cond10 i v48 = 1#1), 8 ∣ (k0_mult630 v2066).toNat := fun i v48 v2066 k0_hw636 k0_h10 => k0_hw636.1 k0_h10
theorem k0_off1676_inb : ∀ (i : grid0.Coords) (v48 : BitVec 32) (v2066 : BitVec 32) (k0_hw636 : k0_chk636 i v48 v2066), ∀ (k0_h10 : k0_cond10 i v48 = 1#1), ∀ a, (k0_off1676 v2066) a + S8x128.size a ≤ S65536x128.size a := fun i v48 v2066 k0_hw636 k0_h10 => k0_hw636.2.1 k0_h10
theorem k0_off1677_inb : ∀ (i : grid0.Coords) (v48 : BitVec 32) (v2066 : BitVec 32) (k0_hw636 : k0_chk636 i v48 v2066), ∀ (k0_h10 : k0_cond10 i v48 = 1#1), ∀ a, (k0_off1677 v2066) a + S1x128.size a ≤ S8192x128.size a := fun i v48 v2066 k0_hw636 k0_h10 => k0_hw636.2.2 k0_h10

def k0_off1678 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c118_i32 : BitVec 32 := 118#32
  let v2081 : BitVec 32 := Scalar.addi v74 c118_i32
  let v2082 : Index := Scalar.indexCast v2081
  ![v2082.toNat]
def k0_mult631 (v2083 : BitVec 32) : BitVec 32 :=
  let c3_i32_872 : BitVec 32 := 3#32
  let v2084 : BitVec 32 := Scalar.shrsi v2083 c3_i32_872
  let c8191_i32_873 : BitVec 32 := 8191#32
  let v2085 : BitVec 32 := Scalar.andi v2084 c8191_i32_873
  let c8_i32_874 : BitVec 32 := 8#32
  let v2086 : BitVec 32 := Scalar.muli v2085 c8_i32_874
  v2086

def k0_off1679 (v2083 : BitVec 32) : Fin 2 → Nat :=
  let c3_i32_872 : BitVec 32 := 3#32
  let v2084 : BitVec 32 := Scalar.shrsi v2083 c3_i32_872
  let c8191_i32_873 : BitVec 32 := 8191#32
  let v2085 : BitVec 32 := Scalar.andi v2084 c8191_i32_873
  let c8_i32_874 : BitVec 32 := 8#32
  let v2086 : BitVec 32 := Scalar.muli v2085 c8_i32_874
  let v2087 : BitVec 32 := v2086
  let v2088 : Index := Scalar.indexCast v2087
  let c0_875 : Index := 0#32
  ![v2088.toNat, 0]
def k0_off1680 (v2083 : BitVec 32) : Fin 2 → Nat :=
  let c3_i32_872 : BitVec 32 := 3#32
  let v2084 : BitVec 32 := Scalar.shrsi v2083 c3_i32_872
  let c8191_i32_873 : BitVec 32 := 8191#32
  let v2085 : BitVec 32 := Scalar.andi v2084 c8191_i32_873
  let v2093 : Index := Scalar.indexCast v2085
  let c0_877 : Index := 0#32
  ![v2093.toNat, 0]

def k0_chk637 (i : grid0.Coords) (v48 : BitVec 32) (v2083 : BitVec 32) : Prop :=
  (∀ (k0_h10 : k0_cond10 i v48 = 1#1), 8 ∣ (k0_mult631 v2083).toNat) ∧
  (∀ (k0_h10 : k0_cond10 i v48 = 1#1), ∀ a, (k0_off1679 v2083) a + S8x128.size a ≤ S65536x128.size a) ∧
  (∀ (k0_h10 : k0_cond10 i v48 = 1#1), ∀ a, (k0_off1680 v2083) a + S1x128.size a ≤ S8192x128.size a)
theorem k0_mult631_dvd : ∀ (i : grid0.Coords) (v48 : BitVec 32) (v2083 : BitVec 32) (k0_hw637 : k0_chk637 i v48 v2083), ∀ (k0_h10 : k0_cond10 i v48 = 1#1), 8 ∣ (k0_mult631 v2083).toNat := fun i v48 v2083 k0_hw637 k0_h10 => k0_hw637.1 k0_h10
theorem k0_off1679_inb : ∀ (i : grid0.Coords) (v48 : BitVec 32) (v2083 : BitVec 32) (k0_hw637 : k0_chk637 i v48 v2083), ∀ (k0_h10 : k0_cond10 i v48 = 1#1), ∀ a, (k0_off1679 v2083) a + S8x128.size a ≤ S65536x128.size a := fun i v48 v2083 k0_hw637 k0_h10 => k0_hw637.2.1 k0_h10
theorem k0_off1680_inb : ∀ (i : grid0.Coords) (v48 : BitVec 32) (v2083 : BitVec 32) (k0_hw637 : k0_chk637 i v48 v2083), ∀ (k0_h10 : k0_cond10 i v48 = 1#1), ∀ a, (k0_off1680 v2083) a + S1x128.size a ≤ S8192x128.size a := fun i v48 v2083 k0_hw637 k0_h10 => k0_hw637.2.2 k0_h10

def k0_off1681 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c119_i32 : BitVec 32 := 119#32
  let v2098 : BitVec 32 := Scalar.addi v74 c119_i32
  let v2099 : Index := Scalar.indexCast v2098
  ![v2099.toNat]
def k0_mult632 (v2100 : BitVec 32) : BitVec 32 :=
  let c3_i32_879 : BitVec 32 := 3#32
  let v2101 : BitVec 32 := Scalar.shrsi v2100 c3_i32_879
  let c8191_i32_880 : BitVec 32 := 8191#32
  let v2102 : BitVec 32 := Scalar.andi v2101 c8191_i32_880
  let c8_i32_881 : BitVec 32 := 8#32
  let v2103 : BitVec 32 := Scalar.muli v2102 c8_i32_881
  v2103

def k0_off1682 (v2100 : BitVec 32) : Fin 2 → Nat :=
  let c3_i32_879 : BitVec 32 := 3#32
  let v2101 : BitVec 32 := Scalar.shrsi v2100 c3_i32_879
  let c8191_i32_880 : BitVec 32 := 8191#32
  let v2102 : BitVec 32 := Scalar.andi v2101 c8191_i32_880
  let c8_i32_881 : BitVec 32 := 8#32
  let v2103 : BitVec 32 := Scalar.muli v2102 c8_i32_881
  let v2104 : BitVec 32 := v2103
  let v2105 : Index := Scalar.indexCast v2104
  let c0_882 : Index := 0#32
  ![v2105.toNat, 0]
def k0_off1683 (v2100 : BitVec 32) : Fin 2 → Nat :=
  let c3_i32_879 : BitVec 32 := 3#32
  let v2101 : BitVec 32 := Scalar.shrsi v2100 c3_i32_879
  let c8191_i32_880 : BitVec 32 := 8191#32
  let v2102 : BitVec 32 := Scalar.andi v2101 c8191_i32_880
  let v2110 : Index := Scalar.indexCast v2102
  let c0_884 : Index := 0#32
  ![v2110.toNat, 0]

def k0_chk638 (i : grid0.Coords) (v48 : BitVec 32) (v2100 : BitVec 32) : Prop :=
  (∀ (k0_h10 : k0_cond10 i v48 = 1#1), 8 ∣ (k0_mult632 v2100).toNat) ∧
  (∀ (k0_h10 : k0_cond10 i v48 = 1#1), ∀ a, (k0_off1682 v2100) a + S8x128.size a ≤ S65536x128.size a) ∧
  (∀ (k0_h10 : k0_cond10 i v48 = 1#1), ∀ a, (k0_off1683 v2100) a + S1x128.size a ≤ S8192x128.size a)
theorem k0_mult632_dvd : ∀ (i : grid0.Coords) (v48 : BitVec 32) (v2100 : BitVec 32) (k0_hw638 : k0_chk638 i v48 v2100), ∀ (k0_h10 : k0_cond10 i v48 = 1#1), 8 ∣ (k0_mult632 v2100).toNat := fun i v48 v2100 k0_hw638 k0_h10 => k0_hw638.1 k0_h10
theorem k0_off1682_inb : ∀ (i : grid0.Coords) (v48 : BitVec 32) (v2100 : BitVec 32) (k0_hw638 : k0_chk638 i v48 v2100), ∀ (k0_h10 : k0_cond10 i v48 = 1#1), ∀ a, (k0_off1682 v2100) a + S8x128.size a ≤ S65536x128.size a := fun i v48 v2100 k0_hw638 k0_h10 => k0_hw638.2.1 k0_h10
theorem k0_off1683_inb : ∀ (i : grid0.Coords) (v48 : BitVec 32) (v2100 : BitVec 32) (k0_hw638 : k0_chk638 i v48 v2100), ∀ (k0_h10 : k0_cond10 i v48 = 1#1), ∀ a, (k0_off1683 v2100) a + S1x128.size a ≤ S8192x128.size a := fun i v48 v2100 k0_hw638 k0_h10 => k0_hw638.2.2 k0_h10

def k0_off1684 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c120_i32 : BitVec 32 := 120#32
  let v2115 : BitVec 32 := Scalar.addi v74 c120_i32
  let v2116 : Index := Scalar.indexCast v2115
  ![v2116.toNat]
def k0_mult633 (v2117 : BitVec 32) : BitVec 32 :=
  let c3_i32_886 : BitVec 32 := 3#32
  let v2118 : BitVec 32 := Scalar.shrsi v2117 c3_i32_886
  let c8191_i32_887 : BitVec 32 := 8191#32
  let v2119 : BitVec 32 := Scalar.andi v2118 c8191_i32_887
  let c8_i32_888 : BitVec 32 := 8#32
  let v2120 : BitVec 32 := Scalar.muli v2119 c8_i32_888
  v2120

def k0_off1685 (v2117 : BitVec 32) : Fin 2 → Nat :=
  let c3_i32_886 : BitVec 32 := 3#32
  let v2118 : BitVec 32 := Scalar.shrsi v2117 c3_i32_886
  let c8191_i32_887 : BitVec 32 := 8191#32
  let v2119 : BitVec 32 := Scalar.andi v2118 c8191_i32_887
  let c8_i32_888 : BitVec 32 := 8#32
  let v2120 : BitVec 32 := Scalar.muli v2119 c8_i32_888
  let v2121 : BitVec 32 := v2120
  let v2122 : Index := Scalar.indexCast v2121
  let c0_889 : Index := 0#32
  ![v2122.toNat, 0]
def k0_off1686 (v2117 : BitVec 32) : Fin 2 → Nat :=
  let c3_i32_886 : BitVec 32 := 3#32
  let v2118 : BitVec 32 := Scalar.shrsi v2117 c3_i32_886
  let c8191_i32_887 : BitVec 32 := 8191#32
  let v2119 : BitVec 32 := Scalar.andi v2118 c8191_i32_887
  let v2127 : Index := Scalar.indexCast v2119
  let c0_891 : Index := 0#32
  ![v2127.toNat, 0]

def k0_chk639 (i : grid0.Coords) (v48 : BitVec 32) (v2117 : BitVec 32) : Prop :=
  (∀ (k0_h10 : k0_cond10 i v48 = 1#1), 8 ∣ (k0_mult633 v2117).toNat) ∧
  (∀ (k0_h10 : k0_cond10 i v48 = 1#1), ∀ a, (k0_off1685 v2117) a + S8x128.size a ≤ S65536x128.size a) ∧
  (∀ (k0_h10 : k0_cond10 i v48 = 1#1), ∀ a, (k0_off1686 v2117) a + S1x128.size a ≤ S8192x128.size a)
theorem k0_mult633_dvd : ∀ (i : grid0.Coords) (v48 : BitVec 32) (v2117 : BitVec 32) (k0_hw639 : k0_chk639 i v48 v2117), ∀ (k0_h10 : k0_cond10 i v48 = 1#1), 8 ∣ (k0_mult633 v2117).toNat := fun i v48 v2117 k0_hw639 k0_h10 => k0_hw639.1 k0_h10
theorem k0_off1685_inb : ∀ (i : grid0.Coords) (v48 : BitVec 32) (v2117 : BitVec 32) (k0_hw639 : k0_chk639 i v48 v2117), ∀ (k0_h10 : k0_cond10 i v48 = 1#1), ∀ a, (k0_off1685 v2117) a + S8x128.size a ≤ S65536x128.size a := fun i v48 v2117 k0_hw639 k0_h10 => k0_hw639.2.1 k0_h10
theorem k0_off1686_inb : ∀ (i : grid0.Coords) (v48 : BitVec 32) (v2117 : BitVec 32) (k0_hw639 : k0_chk639 i v48 v2117), ∀ (k0_h10 : k0_cond10 i v48 = 1#1), ∀ a, (k0_off1686 v2117) a + S1x128.size a ≤ S8192x128.size a := fun i v48 v2117 k0_hw639 k0_h10 => k0_hw639.2.2 k0_h10

def k0_off1687 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c121_i32 : BitVec 32 := 121#32
  let v2132 : BitVec 32 := Scalar.addi v74 c121_i32
  let v2133 : Index := Scalar.indexCast v2132
  ![v2133.toNat]
def k0_mult634 (v2134 : BitVec 32) : BitVec 32 :=
  let c3_i32_894 : BitVec 32 := 3#32
  let v2135 : BitVec 32 := Scalar.shrsi v2134 c3_i32_894
  let c8191_i32_895 : BitVec 32 := 8191#32
  let v2136 : BitVec 32 := Scalar.andi v2135 c8191_i32_895
  let c8_i32_896 : BitVec 32 := 8#32
  let v2137 : BitVec 32 := Scalar.muli v2136 c8_i32_896
  v2137

def k0_off1688 (v2134 : BitVec 32) : Fin 2 → Nat :=
  let c3_i32_894 : BitVec 32 := 3#32
  let v2135 : BitVec 32 := Scalar.shrsi v2134 c3_i32_894
  let c8191_i32_895 : BitVec 32 := 8191#32
  let v2136 : BitVec 32 := Scalar.andi v2135 c8191_i32_895
  let c8_i32_896 : BitVec 32 := 8#32
  let v2137 : BitVec 32 := Scalar.muli v2136 c8_i32_896
  let v2138 : BitVec 32 := v2137
  let v2139 : Index := Scalar.indexCast v2138
  let c0_897 : Index := 0#32
  ![v2139.toNat, 0]
def k0_off1689 (v2134 : BitVec 32) : Fin 2 → Nat :=
  let c3_i32_894 : BitVec 32 := 3#32
  let v2135 : BitVec 32 := Scalar.shrsi v2134 c3_i32_894
  let c8191_i32_895 : BitVec 32 := 8191#32
  let v2136 : BitVec 32 := Scalar.andi v2135 c8191_i32_895
  let v2144 : Index := Scalar.indexCast v2136
  let c0_899 : Index := 0#32
  ![v2144.toNat, 0]

def k0_chk640 (i : grid0.Coords) (v48 : BitVec 32) (v2134 : BitVec 32) : Prop :=
  (∀ (k0_h10 : k0_cond10 i v48 = 1#1), 8 ∣ (k0_mult634 v2134).toNat) ∧
  (∀ (k0_h10 : k0_cond10 i v48 = 1#1), ∀ a, (k0_off1688 v2134) a + S8x128.size a ≤ S65536x128.size a) ∧
  (∀ (k0_h10 : k0_cond10 i v48 = 1#1), ∀ a, (k0_off1689 v2134) a + S1x128.size a ≤ S8192x128.size a)
theorem k0_mult634_dvd : ∀ (i : grid0.Coords) (v48 : BitVec 32) (v2134 : BitVec 32) (k0_hw640 : k0_chk640 i v48 v2134), ∀ (k0_h10 : k0_cond10 i v48 = 1#1), 8 ∣ (k0_mult634 v2134).toNat := fun i v48 v2134 k0_hw640 k0_h10 => k0_hw640.1 k0_h10
theorem k0_off1688_inb : ∀ (i : grid0.Coords) (v48 : BitVec 32) (v2134 : BitVec 32) (k0_hw640 : k0_chk640 i v48 v2134), ∀ (k0_h10 : k0_cond10 i v48 = 1#1), ∀ a, (k0_off1688 v2134) a + S8x128.size a ≤ S65536x128.size a := fun i v48 v2134 k0_hw640 k0_h10 => k0_hw640.2.1 k0_h10
theorem k0_off1689_inb : ∀ (i : grid0.Coords) (v48 : BitVec 32) (v2134 : BitVec 32) (k0_hw640 : k0_chk640 i v48 v2134), ∀ (k0_h10 : k0_cond10 i v48 = 1#1), ∀ a, (k0_off1689 v2134) a + S1x128.size a ≤ S8192x128.size a := fun i v48 v2134 k0_hw640 k0_h10 => k0_hw640.2.2 k0_h10

def k0_off1690 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c122_i32 : BitVec 32 := 122#32
  let v2149 : BitVec 32 := Scalar.addi v74 c122_i32
  let v2150 : Index := Scalar.indexCast v2149
  ![v2150.toNat]
def k0_mult635 (v2151 : BitVec 32) : BitVec 32 :=
  let c3_i32_901 : BitVec 32 := 3#32
  let v2152 : BitVec 32 := Scalar.shrsi v2151 c3_i32_901
  let c8191_i32_902 : BitVec 32 := 8191#32
  let v2153 : BitVec 32 := Scalar.andi v2152 c8191_i32_902
  let c8_i32_903 : BitVec 32 := 8#32
  let v2154 : BitVec 32 := Scalar.muli v2153 c8_i32_903
  v2154

def k0_off1691 (v2151 : BitVec 32) : Fin 2 → Nat :=
  let c3_i32_901 : BitVec 32 := 3#32
  let v2152 : BitVec 32 := Scalar.shrsi v2151 c3_i32_901
  let c8191_i32_902 : BitVec 32 := 8191#32
  let v2153 : BitVec 32 := Scalar.andi v2152 c8191_i32_902
  let c8_i32_903 : BitVec 32 := 8#32
  let v2154 : BitVec 32 := Scalar.muli v2153 c8_i32_903
  let v2155 : BitVec 32 := v2154
  let v2156 : Index := Scalar.indexCast v2155
  let c0_904 : Index := 0#32
  ![v2156.toNat, 0]
def k0_off1692 (v2151 : BitVec 32) : Fin 2 → Nat :=
  let c3_i32_901 : BitVec 32 := 3#32
  let v2152 : BitVec 32 := Scalar.shrsi v2151 c3_i32_901
  let c8191_i32_902 : BitVec 32 := 8191#32
  let v2153 : BitVec 32 := Scalar.andi v2152 c8191_i32_902
  let v2161 : Index := Scalar.indexCast v2153
  let c0_906 : Index := 0#32
  ![v2161.toNat, 0]

def k0_chk641 (i : grid0.Coords) (v48 : BitVec 32) (v2151 : BitVec 32) : Prop :=
  (∀ (k0_h10 : k0_cond10 i v48 = 1#1), 8 ∣ (k0_mult635 v2151).toNat) ∧
  (∀ (k0_h10 : k0_cond10 i v48 = 1#1), ∀ a, (k0_off1691 v2151) a + S8x128.size a ≤ S65536x128.size a) ∧
  (∀ (k0_h10 : k0_cond10 i v48 = 1#1), ∀ a, (k0_off1692 v2151) a + S1x128.size a ≤ S8192x128.size a)
theorem k0_mult635_dvd : ∀ (i : grid0.Coords) (v48 : BitVec 32) (v2151 : BitVec 32) (k0_hw641 : k0_chk641 i v48 v2151), ∀ (k0_h10 : k0_cond10 i v48 = 1#1), 8 ∣ (k0_mult635 v2151).toNat := fun i v48 v2151 k0_hw641 k0_h10 => k0_hw641.1 k0_h10
theorem k0_off1691_inb : ∀ (i : grid0.Coords) (v48 : BitVec 32) (v2151 : BitVec 32) (k0_hw641 : k0_chk641 i v48 v2151), ∀ (k0_h10 : k0_cond10 i v48 = 1#1), ∀ a, (k0_off1691 v2151) a + S8x128.size a ≤ S65536x128.size a := fun i v48 v2151 k0_hw641 k0_h10 => k0_hw641.2.1 k0_h10
theorem k0_off1692_inb : ∀ (i : grid0.Coords) (v48 : BitVec 32) (v2151 : BitVec 32) (k0_hw641 : k0_chk641 i v48 v2151), ∀ (k0_h10 : k0_cond10 i v48 = 1#1), ∀ a, (k0_off1692 v2151) a + S1x128.size a ≤ S8192x128.size a := fun i v48 v2151 k0_hw641 k0_h10 => k0_hw641.2.2 k0_h10

def k0_off1693 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c123_i32 : BitVec 32 := 123#32
  let v2166 : BitVec 32 := Scalar.addi v74 c123_i32
  let v2167 : Index := Scalar.indexCast v2166
  ![v2167.toNat]
def k0_mult636 (v2168 : BitVec 32) : BitVec 32 :=
  let c3_i32_908 : BitVec 32 := 3#32
  let v2169 : BitVec 32 := Scalar.shrsi v2168 c3_i32_908
  let c8191_i32_909 : BitVec 32 := 8191#32
  let v2170 : BitVec 32 := Scalar.andi v2169 c8191_i32_909
  let c8_i32_910 : BitVec 32 := 8#32
  let v2171 : BitVec 32 := Scalar.muli v2170 c8_i32_910
  v2171

def k0_off1694 (v2168 : BitVec 32) : Fin 2 → Nat :=
  let c3_i32_908 : BitVec 32 := 3#32
  let v2169 : BitVec 32 := Scalar.shrsi v2168 c3_i32_908
  let c8191_i32_909 : BitVec 32 := 8191#32
  let v2170 : BitVec 32 := Scalar.andi v2169 c8191_i32_909
  let c8_i32_910 : BitVec 32 := 8#32
  let v2171 : BitVec 32 := Scalar.muli v2170 c8_i32_910
  let v2172 : BitVec 32 := v2171
  let v2173 : Index := Scalar.indexCast v2172
  let c0_911 : Index := 0#32
  ![v2173.toNat, 0]
def k0_off1695 (v2168 : BitVec 32) : Fin 2 → Nat :=
  let c3_i32_908 : BitVec 32 := 3#32
  let v2169 : BitVec 32 := Scalar.shrsi v2168 c3_i32_908
  let c8191_i32_909 : BitVec 32 := 8191#32
  let v2170 : BitVec 32 := Scalar.andi v2169 c8191_i32_909
  let v2178 : Index := Scalar.indexCast v2170
  let c0_913 : Index := 0#32
  ![v2178.toNat, 0]

def k0_chk642 (i : grid0.Coords) (v48 : BitVec 32) (v2168 : BitVec 32) : Prop :=
  (∀ (k0_h10 : k0_cond10 i v48 = 1#1), 8 ∣ (k0_mult636 v2168).toNat) ∧
  (∀ (k0_h10 : k0_cond10 i v48 = 1#1), ∀ a, (k0_off1694 v2168) a + S8x128.size a ≤ S65536x128.size a) ∧
  (∀ (k0_h10 : k0_cond10 i v48 = 1#1), ∀ a, (k0_off1695 v2168) a + S1x128.size a ≤ S8192x128.size a)
theorem k0_mult636_dvd : ∀ (i : grid0.Coords) (v48 : BitVec 32) (v2168 : BitVec 32) (k0_hw642 : k0_chk642 i v48 v2168), ∀ (k0_h10 : k0_cond10 i v48 = 1#1), 8 ∣ (k0_mult636 v2168).toNat := fun i v48 v2168 k0_hw642 k0_h10 => k0_hw642.1 k0_h10
theorem k0_off1694_inb : ∀ (i : grid0.Coords) (v48 : BitVec 32) (v2168 : BitVec 32) (k0_hw642 : k0_chk642 i v48 v2168), ∀ (k0_h10 : k0_cond10 i v48 = 1#1), ∀ a, (k0_off1694 v2168) a + S8x128.size a ≤ S65536x128.size a := fun i v48 v2168 k0_hw642 k0_h10 => k0_hw642.2.1 k0_h10
theorem k0_off1695_inb : ∀ (i : grid0.Coords) (v48 : BitVec 32) (v2168 : BitVec 32) (k0_hw642 : k0_chk642 i v48 v2168), ∀ (k0_h10 : k0_cond10 i v48 = 1#1), ∀ a, (k0_off1695 v2168) a + S1x128.size a ≤ S8192x128.size a := fun i v48 v2168 k0_hw642 k0_h10 => k0_hw642.2.2 k0_h10

def k0_off1696 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c124_i32 : BitVec 32 := 124#32
  let v2183 : BitVec 32 := Scalar.addi v74 c124_i32
  let v2184 : Index := Scalar.indexCast v2183
  ![v2184.toNat]
def k0_mult637 (v2185 : BitVec 32) : BitVec 32 :=
  let c3_i32_915 : BitVec 32 := 3#32
  let v2186 : BitVec 32 := Scalar.shrsi v2185 c3_i32_915
  let c8191_i32_916 : BitVec 32 := 8191#32
  let v2187 : BitVec 32 := Scalar.andi v2186 c8191_i32_916
  let c8_i32_917 : BitVec 32 := 8#32
  let v2188 : BitVec 32 := Scalar.muli v2187 c8_i32_917
  v2188

def k0_off1697 (v2185 : BitVec 32) : Fin 2 → Nat :=
  let c3_i32_915 : BitVec 32 := 3#32
  let v2186 : BitVec 32 := Scalar.shrsi v2185 c3_i32_915
  let c8191_i32_916 : BitVec 32 := 8191#32
  let v2187 : BitVec 32 := Scalar.andi v2186 c8191_i32_916
  let c8_i32_917 : BitVec 32 := 8#32
  let v2188 : BitVec 32 := Scalar.muli v2187 c8_i32_917
  let v2189 : BitVec 32 := v2188
  let v2190 : Index := Scalar.indexCast v2189
  let c0_918 : Index := 0#32
  ![v2190.toNat, 0]
def k0_off1698 (v2185 : BitVec 32) : Fin 2 → Nat :=
  let c3_i32_915 : BitVec 32 := 3#32
  let v2186 : BitVec 32 := Scalar.shrsi v2185 c3_i32_915
  let c8191_i32_916 : BitVec 32 := 8191#32
  let v2187 : BitVec 32 := Scalar.andi v2186 c8191_i32_916
  let v2195 : Index := Scalar.indexCast v2187
  let c0_920 : Index := 0#32
  ![v2195.toNat, 0]

def k0_chk643 (i : grid0.Coords) (v48 : BitVec 32) (v2185 : BitVec 32) : Prop :=
  (∀ (k0_h10 : k0_cond10 i v48 = 1#1), 8 ∣ (k0_mult637 v2185).toNat) ∧
  (∀ (k0_h10 : k0_cond10 i v48 = 1#1), ∀ a, (k0_off1697 v2185) a + S8x128.size a ≤ S65536x128.size a) ∧
  (∀ (k0_h10 : k0_cond10 i v48 = 1#1), ∀ a, (k0_off1698 v2185) a + S1x128.size a ≤ S8192x128.size a)
theorem k0_mult637_dvd : ∀ (i : grid0.Coords) (v48 : BitVec 32) (v2185 : BitVec 32) (k0_hw643 : k0_chk643 i v48 v2185), ∀ (k0_h10 : k0_cond10 i v48 = 1#1), 8 ∣ (k0_mult637 v2185).toNat := fun i v48 v2185 k0_hw643 k0_h10 => k0_hw643.1 k0_h10
theorem k0_off1697_inb : ∀ (i : grid0.Coords) (v48 : BitVec 32) (v2185 : BitVec 32) (k0_hw643 : k0_chk643 i v48 v2185), ∀ (k0_h10 : k0_cond10 i v48 = 1#1), ∀ a, (k0_off1697 v2185) a + S8x128.size a ≤ S65536x128.size a := fun i v48 v2185 k0_hw643 k0_h10 => k0_hw643.2.1 k0_h10
theorem k0_off1698_inb : ∀ (i : grid0.Coords) (v48 : BitVec 32) (v2185 : BitVec 32) (k0_hw643 : k0_chk643 i v48 v2185), ∀ (k0_h10 : k0_cond10 i v48 = 1#1), ∀ a, (k0_off1698 v2185) a + S1x128.size a ≤ S8192x128.size a := fun i v48 v2185 k0_hw643 k0_h10 => k0_hw643.2.2 k0_h10

def k0_off1699 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c125_i32 : BitVec 32 := 125#32
  let v2200 : BitVec 32 := Scalar.addi v74 c125_i32
  let v2201 : Index := Scalar.indexCast v2200
  ![v2201.toNat]
def k0_mult638 (v2202 : BitVec 32) : BitVec 32 :=
  let c3_i32_922 : BitVec 32 := 3#32
  let v2203 : BitVec 32 := Scalar.shrsi v2202 c3_i32_922
  let c8191_i32_923 : BitVec 32 := 8191#32
  let v2204 : BitVec 32 := Scalar.andi v2203 c8191_i32_923
  let c8_i32_924 : BitVec 32 := 8#32
  let v2205 : BitVec 32 := Scalar.muli v2204 c8_i32_924
  v2205

def k0_off1700 (v2202 : BitVec 32) : Fin 2 → Nat :=
  let c3_i32_922 : BitVec 32 := 3#32
  let v2203 : BitVec 32 := Scalar.shrsi v2202 c3_i32_922
  let c8191_i32_923 : BitVec 32 := 8191#32
  let v2204 : BitVec 32 := Scalar.andi v2203 c8191_i32_923
  let c8_i32_924 : BitVec 32 := 8#32
  let v2205 : BitVec 32 := Scalar.muli v2204 c8_i32_924
  let v2206 : BitVec 32 := v2205
  let v2207 : Index := Scalar.indexCast v2206
  let c0_925 : Index := 0#32
  ![v2207.toNat, 0]
def k0_off1701 (v2202 : BitVec 32) : Fin 2 → Nat :=
  let c3_i32_922 : BitVec 32 := 3#32
  let v2203 : BitVec 32 := Scalar.shrsi v2202 c3_i32_922
  let c8191_i32_923 : BitVec 32 := 8191#32
  let v2204 : BitVec 32 := Scalar.andi v2203 c8191_i32_923
  let v2212 : Index := Scalar.indexCast v2204
  let c0_927 : Index := 0#32
  ![v2212.toNat, 0]

def k0_chk644 (i : grid0.Coords) (v48 : BitVec 32) (v2202 : BitVec 32) : Prop :=
  (∀ (k0_h10 : k0_cond10 i v48 = 1#1), 8 ∣ (k0_mult638 v2202).toNat) ∧
  (∀ (k0_h10 : k0_cond10 i v48 = 1#1), ∀ a, (k0_off1700 v2202) a + S8x128.size a ≤ S65536x128.size a) ∧
  (∀ (k0_h10 : k0_cond10 i v48 = 1#1), ∀ a, (k0_off1701 v2202) a + S1x128.size a ≤ S8192x128.size a)
theorem k0_mult638_dvd : ∀ (i : grid0.Coords) (v48 : BitVec 32) (v2202 : BitVec 32) (k0_hw644 : k0_chk644 i v48 v2202), ∀ (k0_h10 : k0_cond10 i v48 = 1#1), 8 ∣ (k0_mult638 v2202).toNat := fun i v48 v2202 k0_hw644 k0_h10 => k0_hw644.1 k0_h10
theorem k0_off1700_inb : ∀ (i : grid0.Coords) (v48 : BitVec 32) (v2202 : BitVec 32) (k0_hw644 : k0_chk644 i v48 v2202), ∀ (k0_h10 : k0_cond10 i v48 = 1#1), ∀ a, (k0_off1700 v2202) a + S8x128.size a ≤ S65536x128.size a := fun i v48 v2202 k0_hw644 k0_h10 => k0_hw644.2.1 k0_h10
theorem k0_off1701_inb : ∀ (i : grid0.Coords) (v48 : BitVec 32) (v2202 : BitVec 32) (k0_hw644 : k0_chk644 i v48 v2202), ∀ (k0_h10 : k0_cond10 i v48 = 1#1), ∀ a, (k0_off1701 v2202) a + S1x128.size a ≤ S8192x128.size a := fun i v48 v2202 k0_hw644 k0_h10 => k0_hw644.2.2 k0_h10

def k0_off1702 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c126_i32 : BitVec 32 := 126#32
  let v2217 : BitVec 32 := Scalar.addi v74 c126_i32
  let v2218 : Index := Scalar.indexCast v2217
  ![v2218.toNat]
def k0_mult639 (v2219 : BitVec 32) : BitVec 32 :=
  let c3_i32_929 : BitVec 32 := 3#32
  let v2220 : BitVec 32 := Scalar.shrsi v2219 c3_i32_929
  let c8191_i32_930 : BitVec 32 := 8191#32
  let v2221 : BitVec 32 := Scalar.andi v2220 c8191_i32_930
  let c8_i32_931 : BitVec 32 := 8#32
  let v2222 : BitVec 32 := Scalar.muli v2221 c8_i32_931
  v2222

def k0_off1703 (v2219 : BitVec 32) : Fin 2 → Nat :=
  let c3_i32_929 : BitVec 32 := 3#32
  let v2220 : BitVec 32 := Scalar.shrsi v2219 c3_i32_929
  let c8191_i32_930 : BitVec 32 := 8191#32
  let v2221 : BitVec 32 := Scalar.andi v2220 c8191_i32_930
  let c8_i32_931 : BitVec 32 := 8#32
  let v2222 : BitVec 32 := Scalar.muli v2221 c8_i32_931
  let v2223 : BitVec 32 := v2222
  let v2224 : Index := Scalar.indexCast v2223
  let c0_932 : Index := 0#32
  ![v2224.toNat, 0]
def k0_off1704 (v2219 : BitVec 32) : Fin 2 → Nat :=
  let c3_i32_929 : BitVec 32 := 3#32
  let v2220 : BitVec 32 := Scalar.shrsi v2219 c3_i32_929
  let c8191_i32_930 : BitVec 32 := 8191#32
  let v2221 : BitVec 32 := Scalar.andi v2220 c8191_i32_930
  let v2229 : Index := Scalar.indexCast v2221
  let c0_934 : Index := 0#32
  ![v2229.toNat, 0]

def k0_chk645 (i : grid0.Coords) (v48 : BitVec 32) (v2219 : BitVec 32) : Prop :=
  (∀ (k0_h10 : k0_cond10 i v48 = 1#1), 8 ∣ (k0_mult639 v2219).toNat) ∧
  (∀ (k0_h10 : k0_cond10 i v48 = 1#1), ∀ a, (k0_off1703 v2219) a + S8x128.size a ≤ S65536x128.size a) ∧
  (∀ (k0_h10 : k0_cond10 i v48 = 1#1), ∀ a, (k0_off1704 v2219) a + S1x128.size a ≤ S8192x128.size a)
theorem k0_mult639_dvd : ∀ (i : grid0.Coords) (v48 : BitVec 32) (v2219 : BitVec 32) (k0_hw645 : k0_chk645 i v48 v2219), ∀ (k0_h10 : k0_cond10 i v48 = 1#1), 8 ∣ (k0_mult639 v2219).toNat := fun i v48 v2219 k0_hw645 k0_h10 => k0_hw645.1 k0_h10
theorem k0_off1703_inb : ∀ (i : grid0.Coords) (v48 : BitVec 32) (v2219 : BitVec 32) (k0_hw645 : k0_chk645 i v48 v2219), ∀ (k0_h10 : k0_cond10 i v48 = 1#1), ∀ a, (k0_off1703 v2219) a + S8x128.size a ≤ S65536x128.size a := fun i v48 v2219 k0_hw645 k0_h10 => k0_hw645.2.1 k0_h10
theorem k0_off1704_inb : ∀ (i : grid0.Coords) (v48 : BitVec 32) (v2219 : BitVec 32) (k0_hw645 : k0_chk645 i v48 v2219), ∀ (k0_h10 : k0_cond10 i v48 = 1#1), ∀ a, (k0_off1704 v2219) a + S1x128.size a ≤ S8192x128.size a := fun i v48 v2219 k0_hw645 k0_h10 => k0_hw645.2.2 k0_h10

def k0_off1705 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c127_i32 : BitVec 32 := 127#32
  let v2234 : BitVec 32 := Scalar.addi v74 c127_i32
  let v2235 : Index := Scalar.indexCast v2234
  ![v2235.toNat]
def k0_mult640 (v2236 : BitVec 32) : BitVec 32 :=
  let c3_i32_936 : BitVec 32 := 3#32
  let v2237 : BitVec 32 := Scalar.shrsi v2236 c3_i32_936
  let c8191_i32_937 : BitVec 32 := 8191#32
  let v2238 : BitVec 32 := Scalar.andi v2237 c8191_i32_937
  let c8_i32_938 : BitVec 32 := 8#32
  let v2239 : BitVec 32 := Scalar.muli v2238 c8_i32_938
  v2239

def k0_off1706 (v2236 : BitVec 32) : Fin 2 → Nat :=
  let c3_i32_936 : BitVec 32 := 3#32
  let v2237 : BitVec 32 := Scalar.shrsi v2236 c3_i32_936
  let c8191_i32_937 : BitVec 32 := 8191#32
  let v2238 : BitVec 32 := Scalar.andi v2237 c8191_i32_937
  let c8_i32_938 : BitVec 32 := 8#32
  let v2239 : BitVec 32 := Scalar.muli v2238 c8_i32_938
  let v2240 : BitVec 32 := v2239
  let v2241 : Index := Scalar.indexCast v2240
  let c0_939 : Index := 0#32
  ![v2241.toNat, 0]
def k0_off1707 (v2236 : BitVec 32) : Fin 2 → Nat :=
  let c3_i32_936 : BitVec 32 := 3#32
  let v2237 : BitVec 32 := Scalar.shrsi v2236 c3_i32_936
  let c8191_i32_937 : BitVec 32 := 8191#32
  let v2238 : BitVec 32 := Scalar.andi v2237 c8191_i32_937
  let v2246 : Index := Scalar.indexCast v2238
  let c0_941 : Index := 0#32
  ![v2246.toNat, 0]

def k0_chk646 (i : grid0.Coords) (v48 : BitVec 32) (v2236 : BitVec 32) : Prop :=
  (∀ (k0_h10 : k0_cond10 i v48 = 1#1), 8 ∣ (k0_mult640 v2236).toNat) ∧
  (∀ (k0_h10 : k0_cond10 i v48 = 1#1), ∀ a, (k0_off1706 v2236) a + S8x128.size a ≤ S65536x128.size a) ∧
  (∀ (k0_h10 : k0_cond10 i v48 = 1#1), ∀ a, (k0_off1707 v2236) a + S1x128.size a ≤ S8192x128.size a)
theorem k0_mult640_dvd : ∀ (i : grid0.Coords) (v48 : BitVec 32) (v2236 : BitVec 32) (k0_hw646 : k0_chk646 i v48 v2236), ∀ (k0_h10 : k0_cond10 i v48 = 1#1), 8 ∣ (k0_mult640 v2236).toNat := fun i v48 v2236 k0_hw646 k0_h10 => k0_hw646.1 k0_h10
theorem k0_off1706_inb : ∀ (i : grid0.Coords) (v48 : BitVec 32) (v2236 : BitVec 32) (k0_hw646 : k0_chk646 i v48 v2236), ∀ (k0_h10 : k0_cond10 i v48 = 1#1), ∀ a, (k0_off1706 v2236) a + S8x128.size a ≤ S65536x128.size a := fun i v48 v2236 k0_hw646 k0_h10 => k0_hw646.2.1 k0_h10
theorem k0_off1707_inb : ∀ (i : grid0.Coords) (v48 : BitVec 32) (v2236 : BitVec 32) (k0_hw646 : k0_chk646 i v48 v2236), ∀ (k0_h10 : k0_cond10 i v48 = 1#1), ∀ a, (k0_off1707 v2236) a + S1x128.size a ≤ S8192x128.size a := fun i v48 v2236 k0_hw646 k0_h10 => k0_hw646.2.2 k0_h10

def k0_off1708 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c128_i32 : BitVec 32 := 128#32
  let v2251 : BitVec 32 := Scalar.addi v74 c128_i32
  let v2252 : Index := Scalar.indexCast v2251
  ![v2252.toNat]
def k0_mult641 (v2253 : BitVec 32) : BitVec 32 :=
  let c3_i32_943 : BitVec 32 := 3#32
  let v2254 : BitVec 32 := Scalar.shrsi v2253 c3_i32_943
  let c8191_i32_944 : BitVec 32 := 8191#32
  let v2255 : BitVec 32 := Scalar.andi v2254 c8191_i32_944
  let c8_i32_945 : BitVec 32 := 8#32
  let v2256 : BitVec 32 := Scalar.muli v2255 c8_i32_945
  v2256

def k0_off1709 (v2253 : BitVec 32) : Fin 2 → Nat :=
  let c3_i32_943 : BitVec 32 := 3#32
  let v2254 : BitVec 32 := Scalar.shrsi v2253 c3_i32_943
  let c8191_i32_944 : BitVec 32 := 8191#32
  let v2255 : BitVec 32 := Scalar.andi v2254 c8191_i32_944
  let c8_i32_945 : BitVec 32 := 8#32
  let v2256 : BitVec 32 := Scalar.muli v2255 c8_i32_945
  let v2257 : BitVec 32 := v2256
  let v2258 : Index := Scalar.indexCast v2257
  let c0_946 : Index := 0#32
  ![v2258.toNat, 0]
def k0_off1710 (v2253 : BitVec 32) : Fin 2 → Nat :=
  let c3_i32_943 : BitVec 32 := 3#32
  let v2254 : BitVec 32 := Scalar.shrsi v2253 c3_i32_943
  let c8191_i32_944 : BitVec 32 := 8191#32
  let v2255 : BitVec 32 := Scalar.andi v2254 c8191_i32_944
  let v2263 : Index := Scalar.indexCast v2255
  let c0_948 : Index := 0#32
  ![v2263.toNat, 0]

def k0_chk647 (i : grid0.Coords) (v48 : BitVec 32) (v2253 : BitVec 32) : Prop :=
  (∀ (k0_h10 : k0_cond10 i v48 = 1#1), 8 ∣ (k0_mult641 v2253).toNat) ∧
  (∀ (k0_h10 : k0_cond10 i v48 = 1#1), ∀ a, (k0_off1709 v2253) a + S8x128.size a ≤ S65536x128.size a) ∧
  (∀ (k0_h10 : k0_cond10 i v48 = 1#1), ∀ a, (k0_off1710 v2253) a + S1x128.size a ≤ S8192x128.size a)
theorem k0_mult641_dvd : ∀ (i : grid0.Coords) (v48 : BitVec 32) (v2253 : BitVec 32) (k0_hw647 : k0_chk647 i v48 v2253), ∀ (k0_h10 : k0_cond10 i v48 = 1#1), 8 ∣ (k0_mult641 v2253).toNat := fun i v48 v2253 k0_hw647 k0_h10 => k0_hw647.1 k0_h10
theorem k0_off1709_inb : ∀ (i : grid0.Coords) (v48 : BitVec 32) (v2253 : BitVec 32) (k0_hw647 : k0_chk647 i v48 v2253), ∀ (k0_h10 : k0_cond10 i v48 = 1#1), ∀ a, (k0_off1709 v2253) a + S8x128.size a ≤ S65536x128.size a := fun i v48 v2253 k0_hw647 k0_h10 => k0_hw647.2.1 k0_h10
theorem k0_off1710_inb : ∀ (i : grid0.Coords) (v48 : BitVec 32) (v2253 : BitVec 32) (k0_hw647 : k0_chk647 i v48 v2253), ∀ (k0_h10 : k0_cond10 i v48 = 1#1), ∀ a, (k0_off1710 v2253) a + S1x128.size a ≤ S8192x128.size a := fun i v48 v2253 k0_hw647 k0_h10 => k0_hw647.2.2 k0_h10

def k0_off1711 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c129_i32_951 : BitVec 32 := 129#32
  let v2268 : BitVec 32 := Scalar.addi v74 c129_i32_951
  let v2269 : Index := Scalar.indexCast v2268
  ![v2269.toNat]
def k0_mult642 (v2270 : BitVec 32) : BitVec 32 :=
  let c3_i32_952 : BitVec 32 := 3#32
  let v2271 : BitVec 32 := Scalar.shrsi v2270 c3_i32_952
  let c8191_i32_953 : BitVec 32 := 8191#32
  let v2272 : BitVec 32 := Scalar.andi v2271 c8191_i32_953
  let c8_i32_954 : BitVec 32 := 8#32
  let v2273 : BitVec 32 := Scalar.muli v2272 c8_i32_954
  v2273

def k0_off1712 (v2270 : BitVec 32) : Fin 2 → Nat :=
  let c3_i32_952 : BitVec 32 := 3#32
  let v2271 : BitVec 32 := Scalar.shrsi v2270 c3_i32_952
  let c8191_i32_953 : BitVec 32 := 8191#32
  let v2272 : BitVec 32 := Scalar.andi v2271 c8191_i32_953
  let c8_i32_954 : BitVec 32 := 8#32
  let v2273 : BitVec 32 := Scalar.muli v2272 c8_i32_954
  let v2274 : BitVec 32 := v2273
  let v2275 : Index := Scalar.indexCast v2274
  let c0_955 : Index := 0#32
  ![v2275.toNat, 0]
def k0_off1713 (v2270 : BitVec 32) : Fin 2 → Nat :=
  let c3_i32_952 : BitVec 32 := 3#32
  let v2271 : BitVec 32 := Scalar.shrsi v2270 c3_i32_952
  let c8191_i32_953 : BitVec 32 := 8191#32
  let v2272 : BitVec 32 := Scalar.andi v2271 c8191_i32_953
  let v2280 : Index := Scalar.indexCast v2272
  let c0_957 : Index := 0#32
  ![v2280.toNat, 0]

def k0_chk648 (i : grid0.Coords) (v48 : BitVec 32) (v2270 : BitVec 32) : Prop :=
  (∀ (k0_h10 : k0_cond10 i v48 = 1#1), 8 ∣ (k0_mult642 v2270).toNat) ∧
  (∀ (k0_h10 : k0_cond10 i v48 = 1#1), ∀ a, (k0_off1712 v2270) a + S8x128.size a ≤ S65536x128.size a) ∧
  (∀ (k0_h10 : k0_cond10 i v48 = 1#1), ∀ a, (k0_off1713 v2270) a + S1x128.size a ≤ S8192x128.size a)
theorem k0_mult642_dvd : ∀ (i : grid0.Coords) (v48 : BitVec 32) (v2270 : BitVec 32) (k0_hw648 : k0_chk648 i v48 v2270), ∀ (k0_h10 : k0_cond10 i v48 = 1#1), 8 ∣ (k0_mult642 v2270).toNat := fun i v48 v2270 k0_hw648 k0_h10 => k0_hw648.1 k0_h10
theorem k0_off1712_inb : ∀ (i : grid0.Coords) (v48 : BitVec 32) (v2270 : BitVec 32) (k0_hw648 : k0_chk648 i v48 v2270), ∀ (k0_h10 : k0_cond10 i v48 = 1#1), ∀ a, (k0_off1712 v2270) a + S8x128.size a ≤ S65536x128.size a := fun i v48 v2270 k0_hw648 k0_h10 => k0_hw648.2.1 k0_h10
theorem k0_off1713_inb : ∀ (i : grid0.Coords) (v48 : BitVec 32) (v2270 : BitVec 32) (k0_hw648 : k0_chk648 i v48 v2270), ∀ (k0_h10 : k0_cond10 i v48 = 1#1), ∀ a, (k0_off1713 v2270) a + S1x128.size a ≤ S8192x128.size a := fun i v48 v2270 k0_hw648 k0_h10 => k0_hw648.2.2 k0_h10

def k0_off1714 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c130_i32 : BitVec 32 := 130#32
  let v2285 : BitVec 32 := Scalar.addi v74 c130_i32
  let v2286 : Index := Scalar.indexCast v2285
  ![v2286.toNat]
def k0_mult643 (v2287 : BitVec 32) : BitVec 32 :=
  let c3_i32_959 : BitVec 32 := 3#32
  let v2288 : BitVec 32 := Scalar.shrsi v2287 c3_i32_959
  let c8191_i32_960 : BitVec 32 := 8191#32
  let v2289 : BitVec 32 := Scalar.andi v2288 c8191_i32_960
  let c8_i32_961 : BitVec 32 := 8#32
  let v2290 : BitVec 32 := Scalar.muli v2289 c8_i32_961
  v2290

def k0_off1715 (v2287 : BitVec 32) : Fin 2 → Nat :=
  let c3_i32_959 : BitVec 32 := 3#32
  let v2288 : BitVec 32 := Scalar.shrsi v2287 c3_i32_959
  let c8191_i32_960 : BitVec 32 := 8191#32
  let v2289 : BitVec 32 := Scalar.andi v2288 c8191_i32_960
  let c8_i32_961 : BitVec 32 := 8#32
  let v2290 : BitVec 32 := Scalar.muli v2289 c8_i32_961
  let v2291 : BitVec 32 := v2290
  let v2292 : Index := Scalar.indexCast v2291
  let c0_962 : Index := 0#32
  ![v2292.toNat, 0]
def k0_off1716 (v2287 : BitVec 32) : Fin 2 → Nat :=
  let c3_i32_959 : BitVec 32 := 3#32
  let v2288 : BitVec 32 := Scalar.shrsi v2287 c3_i32_959
  let c8191_i32_960 : BitVec 32 := 8191#32
  let v2289 : BitVec 32 := Scalar.andi v2288 c8191_i32_960
  let v2297 : Index := Scalar.indexCast v2289
  let c0_964 : Index := 0#32
  ![v2297.toNat, 0]

def k0_chk649 (i : grid0.Coords) (v48 : BitVec 32) (v2287 : BitVec 32) : Prop :=
  (∀ (k0_h10 : k0_cond10 i v48 = 1#1), 8 ∣ (k0_mult643 v2287).toNat) ∧
  (∀ (k0_h10 : k0_cond10 i v48 = 1#1), ∀ a, (k0_off1715 v2287) a + S8x128.size a ≤ S65536x128.size a) ∧
  (∀ (k0_h10 : k0_cond10 i v48 = 1#1), ∀ a, (k0_off1716 v2287) a + S1x128.size a ≤ S8192x128.size a)
theorem k0_mult643_dvd : ∀ (i : grid0.Coords) (v48 : BitVec 32) (v2287 : BitVec 32) (k0_hw649 : k0_chk649 i v48 v2287), ∀ (k0_h10 : k0_cond10 i v48 = 1#1), 8 ∣ (k0_mult643 v2287).toNat := fun i v48 v2287 k0_hw649 k0_h10 => k0_hw649.1 k0_h10
theorem k0_off1715_inb : ∀ (i : grid0.Coords) (v48 : BitVec 32) (v2287 : BitVec 32) (k0_hw649 : k0_chk649 i v48 v2287), ∀ (k0_h10 : k0_cond10 i v48 = 1#1), ∀ a, (k0_off1715 v2287) a + S8x128.size a ≤ S65536x128.size a := fun i v48 v2287 k0_hw649 k0_h10 => k0_hw649.2.1 k0_h10
theorem k0_off1716_inb : ∀ (i : grid0.Coords) (v48 : BitVec 32) (v2287 : BitVec 32) (k0_hw649 : k0_chk649 i v48 v2287), ∀ (k0_h10 : k0_cond10 i v48 = 1#1), ∀ a, (k0_off1716 v2287) a + S1x128.size a ≤ S8192x128.size a := fun i v48 v2287 k0_hw649 k0_h10 => k0_hw649.2.2 k0_h10

def k0_off1717 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c131_i32 : BitVec 32 := 131#32
  let v2302 : BitVec 32 := Scalar.addi v74 c131_i32
  let v2303 : Index := Scalar.indexCast v2302
  ![v2303.toNat]
def k0_mult644 (v2304 : BitVec 32) : BitVec 32 :=
  let c3_i32_966 : BitVec 32 := 3#32
  let v2305 : BitVec 32 := Scalar.shrsi v2304 c3_i32_966
  let c8191_i32_967 : BitVec 32 := 8191#32
  let v2306 : BitVec 32 := Scalar.andi v2305 c8191_i32_967
  let c8_i32_968 : BitVec 32 := 8#32
  let v2307 : BitVec 32 := Scalar.muli v2306 c8_i32_968
  v2307

def k0_off1718 (v2304 : BitVec 32) : Fin 2 → Nat :=
  let c3_i32_966 : BitVec 32 := 3#32
  let v2305 : BitVec 32 := Scalar.shrsi v2304 c3_i32_966
  let c8191_i32_967 : BitVec 32 := 8191#32
  let v2306 : BitVec 32 := Scalar.andi v2305 c8191_i32_967
  let c8_i32_968 : BitVec 32 := 8#32
  let v2307 : BitVec 32 := Scalar.muli v2306 c8_i32_968
  let v2308 : BitVec 32 := v2307
  let v2309 : Index := Scalar.indexCast v2308
  let c0_969 : Index := 0#32
  ![v2309.toNat, 0]
def k0_off1719 (v2304 : BitVec 32) : Fin 2 → Nat :=
  let c3_i32_966 : BitVec 32 := 3#32
  let v2305 : BitVec 32 := Scalar.shrsi v2304 c3_i32_966
  let c8191_i32_967 : BitVec 32 := 8191#32
  let v2306 : BitVec 32 := Scalar.andi v2305 c8191_i32_967
  let v2314 : Index := Scalar.indexCast v2306
  let c0_971 : Index := 0#32
  ![v2314.toNat, 0]

def k0_chk650 (i : grid0.Coords) (v48 : BitVec 32) (v2304 : BitVec 32) : Prop :=
  (∀ (k0_h10 : k0_cond10 i v48 = 1#1), 8 ∣ (k0_mult644 v2304).toNat) ∧
  (∀ (k0_h10 : k0_cond10 i v48 = 1#1), ∀ a, (k0_off1718 v2304) a + S8x128.size a ≤ S65536x128.size a) ∧
  (∀ (k0_h10 : k0_cond10 i v48 = 1#1), ∀ a, (k0_off1719 v2304) a + S1x128.size a ≤ S8192x128.size a)
theorem k0_mult644_dvd : ∀ (i : grid0.Coords) (v48 : BitVec 32) (v2304 : BitVec 32) (k0_hw650 : k0_chk650 i v48 v2304), ∀ (k0_h10 : k0_cond10 i v48 = 1#1), 8 ∣ (k0_mult644 v2304).toNat := fun i v48 v2304 k0_hw650 k0_h10 => k0_hw650.1 k0_h10
theorem k0_off1718_inb : ∀ (i : grid0.Coords) (v48 : BitVec 32) (v2304 : BitVec 32) (k0_hw650 : k0_chk650 i v48 v2304), ∀ (k0_h10 : k0_cond10 i v48 = 1#1), ∀ a, (k0_off1718 v2304) a + S8x128.size a ≤ S65536x128.size a := fun i v48 v2304 k0_hw650 k0_h10 => k0_hw650.2.1 k0_h10
theorem k0_off1719_inb : ∀ (i : grid0.Coords) (v48 : BitVec 32) (v2304 : BitVec 32) (k0_hw650 : k0_chk650 i v48 v2304), ∀ (k0_h10 : k0_cond10 i v48 = 1#1), ∀ a, (k0_off1719 v2304) a + S1x128.size a ≤ S8192x128.size a := fun i v48 v2304 k0_hw650 k0_h10 => k0_hw650.2.2 k0_h10

def k0_off1720 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c132_i32 : BitVec 32 := 132#32
  let v2319 : BitVec 32 := Scalar.addi v74 c132_i32
  let v2320 : Index := Scalar.indexCast v2319
  ![v2320.toNat]
def k0_mult645 (v2321 : BitVec 32) : BitVec 32 :=
  let c3_i32_973 : BitVec 32 := 3#32
  let v2322 : BitVec 32 := Scalar.shrsi v2321 c3_i32_973
  let c8191_i32_974 : BitVec 32 := 8191#32
  let v2323 : BitVec 32 := Scalar.andi v2322 c8191_i32_974
  let c8_i32_975 : BitVec 32 := 8#32
  let v2324 : BitVec 32 := Scalar.muli v2323 c8_i32_975
  v2324

def k0_off1721 (v2321 : BitVec 32) : Fin 2 → Nat :=
  let c3_i32_973 : BitVec 32 := 3#32
  let v2322 : BitVec 32 := Scalar.shrsi v2321 c3_i32_973
  let c8191_i32_974 : BitVec 32 := 8191#32
  let v2323 : BitVec 32 := Scalar.andi v2322 c8191_i32_974
  let c8_i32_975 : BitVec 32 := 8#32
  let v2324 : BitVec 32 := Scalar.muli v2323 c8_i32_975
  let v2325 : BitVec 32 := v2324
  let v2326 : Index := Scalar.indexCast v2325
  let c0_976 : Index := 0#32
  ![v2326.toNat, 0]
def k0_off1722 (v2321 : BitVec 32) : Fin 2 → Nat :=
  let c3_i32_973 : BitVec 32 := 3#32
  let v2322 : BitVec 32 := Scalar.shrsi v2321 c3_i32_973
  let c8191_i32_974 : BitVec 32 := 8191#32
  let v2323 : BitVec 32 := Scalar.andi v2322 c8191_i32_974
  let v2331 : Index := Scalar.indexCast v2323
  let c0_978 : Index := 0#32
  ![v2331.toNat, 0]

def k0_chk651 (i : grid0.Coords) (v48 : BitVec 32) (v2321 : BitVec 32) : Prop :=
  (∀ (k0_h10 : k0_cond10 i v48 = 1#1), 8 ∣ (k0_mult645 v2321).toNat) ∧
  (∀ (k0_h10 : k0_cond10 i v48 = 1#1), ∀ a, (k0_off1721 v2321) a + S8x128.size a ≤ S65536x128.size a) ∧
  (∀ (k0_h10 : k0_cond10 i v48 = 1#1), ∀ a, (k0_off1722 v2321) a + S1x128.size a ≤ S8192x128.size a)
theorem k0_mult645_dvd : ∀ (i : grid0.Coords) (v48 : BitVec 32) (v2321 : BitVec 32) (k0_hw651 : k0_chk651 i v48 v2321), ∀ (k0_h10 : k0_cond10 i v48 = 1#1), 8 ∣ (k0_mult645 v2321).toNat := fun i v48 v2321 k0_hw651 k0_h10 => k0_hw651.1 k0_h10
theorem k0_off1721_inb : ∀ (i : grid0.Coords) (v48 : BitVec 32) (v2321 : BitVec 32) (k0_hw651 : k0_chk651 i v48 v2321), ∀ (k0_h10 : k0_cond10 i v48 = 1#1), ∀ a, (k0_off1721 v2321) a + S8x128.size a ≤ S65536x128.size a := fun i v48 v2321 k0_hw651 k0_h10 => k0_hw651.2.1 k0_h10
theorem k0_off1722_inb : ∀ (i : grid0.Coords) (v48 : BitVec 32) (v2321 : BitVec 32) (k0_hw651 : k0_chk651 i v48 v2321), ∀ (k0_h10 : k0_cond10 i v48 = 1#1), ∀ a, (k0_off1722 v2321) a + S1x128.size a ≤ S8192x128.size a := fun i v48 v2321 k0_hw651 k0_h10 => k0_hw651.2.2 k0_h10

def k0_off1723 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c133_i32 : BitVec 32 := 133#32
  let v2336 : BitVec 32 := Scalar.addi v74 c133_i32
  let v2337 : Index := Scalar.indexCast v2336
  ![v2337.toNat]
def k0_mult646 (v2338 : BitVec 32) : BitVec 32 :=
  let c3_i32_980 : BitVec 32 := 3#32
  let v2339 : BitVec 32 := Scalar.shrsi v2338 c3_i32_980
  let c8191_i32_981 : BitVec 32 := 8191#32
  let v2340 : BitVec 32 := Scalar.andi v2339 c8191_i32_981
  let c8_i32_982 : BitVec 32 := 8#32
  let v2341 : BitVec 32 := Scalar.muli v2340 c8_i32_982
  v2341

def k0_off1724 (v2338 : BitVec 32) : Fin 2 → Nat :=
  let c3_i32_980 : BitVec 32 := 3#32
  let v2339 : BitVec 32 := Scalar.shrsi v2338 c3_i32_980
  let c8191_i32_981 : BitVec 32 := 8191#32
  let v2340 : BitVec 32 := Scalar.andi v2339 c8191_i32_981
  let c8_i32_982 : BitVec 32 := 8#32
  let v2341 : BitVec 32 := Scalar.muli v2340 c8_i32_982
  let v2342 : BitVec 32 := v2341
  let v2343 : Index := Scalar.indexCast v2342
  let c0_983 : Index := 0#32
  ![v2343.toNat, 0]
def k0_off1725 (v2338 : BitVec 32) : Fin 2 → Nat :=
  let c3_i32_980 : BitVec 32 := 3#32
  let v2339 : BitVec 32 := Scalar.shrsi v2338 c3_i32_980
  let c8191_i32_981 : BitVec 32 := 8191#32
  let v2340 : BitVec 32 := Scalar.andi v2339 c8191_i32_981
  let v2348 : Index := Scalar.indexCast v2340
  let c0_985 : Index := 0#32
  ![v2348.toNat, 0]

def k0_chk652 (i : grid0.Coords) (v48 : BitVec 32) (v2338 : BitVec 32) : Prop :=
  (∀ (k0_h10 : k0_cond10 i v48 = 1#1), 8 ∣ (k0_mult646 v2338).toNat) ∧
  (∀ (k0_h10 : k0_cond10 i v48 = 1#1), ∀ a, (k0_off1724 v2338) a + S8x128.size a ≤ S65536x128.size a) ∧
  (∀ (k0_h10 : k0_cond10 i v48 = 1#1), ∀ a, (k0_off1725 v2338) a + S1x128.size a ≤ S8192x128.size a)
theorem k0_mult646_dvd : ∀ (i : grid0.Coords) (v48 : BitVec 32) (v2338 : BitVec 32) (k0_hw652 : k0_chk652 i v48 v2338), ∀ (k0_h10 : k0_cond10 i v48 = 1#1), 8 ∣ (k0_mult646 v2338).toNat := fun i v48 v2338 k0_hw652 k0_h10 => k0_hw652.1 k0_h10
theorem k0_off1724_inb : ∀ (i : grid0.Coords) (v48 : BitVec 32) (v2338 : BitVec 32) (k0_hw652 : k0_chk652 i v48 v2338), ∀ (k0_h10 : k0_cond10 i v48 = 1#1), ∀ a, (k0_off1724 v2338) a + S8x128.size a ≤ S65536x128.size a := fun i v48 v2338 k0_hw652 k0_h10 => k0_hw652.2.1 k0_h10
theorem k0_off1725_inb : ∀ (i : grid0.Coords) (v48 : BitVec 32) (v2338 : BitVec 32) (k0_hw652 : k0_chk652 i v48 v2338), ∀ (k0_h10 : k0_cond10 i v48 = 1#1), ∀ a, (k0_off1725 v2338) a + S1x128.size a ≤ S8192x128.size a := fun i v48 v2338 k0_hw652 k0_h10 => k0_hw652.2.2 k0_h10

def k0_off1726 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c134_i32 : BitVec 32 := 134#32
  let v2353 : BitVec 32 := Scalar.addi v74 c134_i32
  let v2354 : Index := Scalar.indexCast v2353
  ![v2354.toNat]
def k0_mult647 (v2355 : BitVec 32) : BitVec 32 :=
  let c3_i32_987 : BitVec 32 := 3#32
  let v2356 : BitVec 32 := Scalar.shrsi v2355 c3_i32_987
  let c8191_i32_988 : BitVec 32 := 8191#32
  let v2357 : BitVec 32 := Scalar.andi v2356 c8191_i32_988
  let c8_i32_989 : BitVec 32 := 8#32
  let v2358 : BitVec 32 := Scalar.muli v2357 c8_i32_989
  v2358

def k0_off1727 (v2355 : BitVec 32) : Fin 2 → Nat :=
  let c3_i32_987 : BitVec 32 := 3#32
  let v2356 : BitVec 32 := Scalar.shrsi v2355 c3_i32_987
  let c8191_i32_988 : BitVec 32 := 8191#32
  let v2357 : BitVec 32 := Scalar.andi v2356 c8191_i32_988
  let c8_i32_989 : BitVec 32 := 8#32
  let v2358 : BitVec 32 := Scalar.muli v2357 c8_i32_989
  let v2359 : BitVec 32 := v2358
  let v2360 : Index := Scalar.indexCast v2359
  let c0_990 : Index := 0#32
  ![v2360.toNat, 0]
def k0_off1728 (v2355 : BitVec 32) : Fin 2 → Nat :=
  let c3_i32_987 : BitVec 32 := 3#32
  let v2356 : BitVec 32 := Scalar.shrsi v2355 c3_i32_987
  let c8191_i32_988 : BitVec 32 := 8191#32
  let v2357 : BitVec 32 := Scalar.andi v2356 c8191_i32_988
  let v2365 : Index := Scalar.indexCast v2357
  let c0_992 : Index := 0#32
  ![v2365.toNat, 0]

def k0_chk653 (i : grid0.Coords) (v48 : BitVec 32) (v2355 : BitVec 32) : Prop :=
  (∀ (k0_h10 : k0_cond10 i v48 = 1#1), 8 ∣ (k0_mult647 v2355).toNat) ∧
  (∀ (k0_h10 : k0_cond10 i v48 = 1#1), ∀ a, (k0_off1727 v2355) a + S8x128.size a ≤ S65536x128.size a) ∧
  (∀ (k0_h10 : k0_cond10 i v48 = 1#1), ∀ a, (k0_off1728 v2355) a + S1x128.size a ≤ S8192x128.size a)
theorem k0_mult647_dvd : ∀ (i : grid0.Coords) (v48 : BitVec 32) (v2355 : BitVec 32) (k0_hw653 : k0_chk653 i v48 v2355), ∀ (k0_h10 : k0_cond10 i v48 = 1#1), 8 ∣ (k0_mult647 v2355).toNat := fun i v48 v2355 k0_hw653 k0_h10 => k0_hw653.1 k0_h10
theorem k0_off1727_inb : ∀ (i : grid0.Coords) (v48 : BitVec 32) (v2355 : BitVec 32) (k0_hw653 : k0_chk653 i v48 v2355), ∀ (k0_h10 : k0_cond10 i v48 = 1#1), ∀ a, (k0_off1727 v2355) a + S8x128.size a ≤ S65536x128.size a := fun i v48 v2355 k0_hw653 k0_h10 => k0_hw653.2.1 k0_h10
theorem k0_off1728_inb : ∀ (i : grid0.Coords) (v48 : BitVec 32) (v2355 : BitVec 32) (k0_hw653 : k0_chk653 i v48 v2355), ∀ (k0_h10 : k0_cond10 i v48 = 1#1), ∀ a, (k0_off1728 v2355) a + S1x128.size a ≤ S8192x128.size a := fun i v48 v2355 k0_hw653 k0_h10 => k0_hw653.2.2 k0_h10

def k0_off1729 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c135_i32 : BitVec 32 := 135#32
  let v2370 : BitVec 32 := Scalar.addi v74 c135_i32
  let v2371 : Index := Scalar.indexCast v2370
  ![v2371.toNat]
def k0_mult648 (v2372 : BitVec 32) : BitVec 32 :=
  let c3_i32_994 : BitVec 32 := 3#32
  let v2373 : BitVec 32 := Scalar.shrsi v2372 c3_i32_994
  let c8191_i32_995 : BitVec 32 := 8191#32
  let v2374 : BitVec 32 := Scalar.andi v2373 c8191_i32_995
  let c8_i32_996 : BitVec 32 := 8#32
  let v2375 : BitVec 32 := Scalar.muli v2374 c8_i32_996
  v2375

def k0_off1730 (v2372 : BitVec 32) : Fin 2 → Nat :=
  let c3_i32_994 : BitVec 32 := 3#32
  let v2373 : BitVec 32 := Scalar.shrsi v2372 c3_i32_994
  let c8191_i32_995 : BitVec 32 := 8191#32
  let v2374 : BitVec 32 := Scalar.andi v2373 c8191_i32_995
  let c8_i32_996 : BitVec 32 := 8#32
  let v2375 : BitVec 32 := Scalar.muli v2374 c8_i32_996
  let v2376 : BitVec 32 := v2375
  let v2377 : Index := Scalar.indexCast v2376
  let c0_997 : Index := 0#32
  ![v2377.toNat, 0]
def k0_off1731 (v2372 : BitVec 32) : Fin 2 → Nat :=
  let c3_i32_994 : BitVec 32 := 3#32
  let v2373 : BitVec 32 := Scalar.shrsi v2372 c3_i32_994
  let c8191_i32_995 : BitVec 32 := 8191#32
  let v2374 : BitVec 32 := Scalar.andi v2373 c8191_i32_995
  let v2382 : Index := Scalar.indexCast v2374
  let c0_999 : Index := 0#32
  ![v2382.toNat, 0]

def k0_chk654 (i : grid0.Coords) (v48 : BitVec 32) (v2372 : BitVec 32) : Prop :=
  (∀ (k0_h10 : k0_cond10 i v48 = 1#1), 8 ∣ (k0_mult648 v2372).toNat) ∧
  (∀ (k0_h10 : k0_cond10 i v48 = 1#1), ∀ a, (k0_off1730 v2372) a + S8x128.size a ≤ S65536x128.size a) ∧
  (∀ (k0_h10 : k0_cond10 i v48 = 1#1), ∀ a, (k0_off1731 v2372) a + S1x128.size a ≤ S8192x128.size a)
theorem k0_mult648_dvd : ∀ (i : grid0.Coords) (v48 : BitVec 32) (v2372 : BitVec 32) (k0_hw654 : k0_chk654 i v48 v2372), ∀ (k0_h10 : k0_cond10 i v48 = 1#1), 8 ∣ (k0_mult648 v2372).toNat := fun i v48 v2372 k0_hw654 k0_h10 => k0_hw654.1 k0_h10
theorem k0_off1730_inb : ∀ (i : grid0.Coords) (v48 : BitVec 32) (v2372 : BitVec 32) (k0_hw654 : k0_chk654 i v48 v2372), ∀ (k0_h10 : k0_cond10 i v48 = 1#1), ∀ a, (k0_off1730 v2372) a + S8x128.size a ≤ S65536x128.size a := fun i v48 v2372 k0_hw654 k0_h10 => k0_hw654.2.1 k0_h10
theorem k0_off1731_inb : ∀ (i : grid0.Coords) (v48 : BitVec 32) (v2372 : BitVec 32) (k0_hw654 : k0_chk654 i v48 v2372), ∀ (k0_h10 : k0_cond10 i v48 = 1#1), ∀ a, (k0_off1731 v2372) a + S1x128.size a ≤ S8192x128.size a := fun i v48 v2372 k0_hw654 k0_h10 => k0_hw654.2.2 k0_h10

def k0_off1732 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c136_i32 : BitVec 32 := 136#32
  let v2387 : BitVec 32 := Scalar.addi v74 c136_i32
  let v2388 : Index := Scalar.indexCast v2387
  ![v2388.toNat]
def k0_mult649 (v2389 : BitVec 32) : BitVec 32 :=
  let c3_i32_1001 : BitVec 32 := 3#32
  let v2390 : BitVec 32 := Scalar.shrsi v2389 c3_i32_1001
  let c8191_i32_1002 : BitVec 32 := 8191#32
  let v2391 : BitVec 32 := Scalar.andi v2390 c8191_i32_1002
  let c8_i32_1003 : BitVec 32 := 8#32
  let v2392 : BitVec 32 := Scalar.muli v2391 c8_i32_1003
  v2392

def k0_off1733 (v2389 : BitVec 32) : Fin 2 → Nat :=
  let c3_i32_1001 : BitVec 32 := 3#32
  let v2390 : BitVec 32 := Scalar.shrsi v2389 c3_i32_1001
  let c8191_i32_1002 : BitVec 32 := 8191#32
  let v2391 : BitVec 32 := Scalar.andi v2390 c8191_i32_1002
  let c8_i32_1003 : BitVec 32 := 8#32
  let v2392 : BitVec 32 := Scalar.muli v2391 c8_i32_1003
  let v2393 : BitVec 32 := v2392
  let v2394 : Index := Scalar.indexCast v2393
  let c0_1004 : Index := 0#32
  ![v2394.toNat, 0]
def k0_off1734 (v2389 : BitVec 32) : Fin 2 → Nat :=
  let c3_i32_1001 : BitVec 32 := 3#32
  let v2390 : BitVec 32 := Scalar.shrsi v2389 c3_i32_1001
  let c8191_i32_1002 : BitVec 32 := 8191#32
  let v2391 : BitVec 32 := Scalar.andi v2390 c8191_i32_1002
  let v2399 : Index := Scalar.indexCast v2391
  let c0_1006 : Index := 0#32
  ![v2399.toNat, 0]

def k0_chk655 (i : grid0.Coords) (v48 : BitVec 32) (v2389 : BitVec 32) : Prop :=
  (∀ (k0_h10 : k0_cond10 i v48 = 1#1), 8 ∣ (k0_mult649 v2389).toNat) ∧
  (∀ (k0_h10 : k0_cond10 i v48 = 1#1), ∀ a, (k0_off1733 v2389) a + S8x128.size a ≤ S65536x128.size a) ∧
  (∀ (k0_h10 : k0_cond10 i v48 = 1#1), ∀ a, (k0_off1734 v2389) a + S1x128.size a ≤ S8192x128.size a)
theorem k0_mult649_dvd : ∀ (i : grid0.Coords) (v48 : BitVec 32) (v2389 : BitVec 32) (k0_hw655 : k0_chk655 i v48 v2389), ∀ (k0_h10 : k0_cond10 i v48 = 1#1), 8 ∣ (k0_mult649 v2389).toNat := fun i v48 v2389 k0_hw655 k0_h10 => k0_hw655.1 k0_h10
theorem k0_off1733_inb : ∀ (i : grid0.Coords) (v48 : BitVec 32) (v2389 : BitVec 32) (k0_hw655 : k0_chk655 i v48 v2389), ∀ (k0_h10 : k0_cond10 i v48 = 1#1), ∀ a, (k0_off1733 v2389) a + S8x128.size a ≤ S65536x128.size a := fun i v48 v2389 k0_hw655 k0_h10 => k0_hw655.2.1 k0_h10
theorem k0_off1734_inb : ∀ (i : grid0.Coords) (v48 : BitVec 32) (v2389 : BitVec 32) (k0_hw655 : k0_chk655 i v48 v2389), ∀ (k0_h10 : k0_cond10 i v48 = 1#1), ∀ a, (k0_off1734 v2389) a + S1x128.size a ≤ S8192x128.size a := fun i v48 v2389 k0_hw655 k0_h10 => k0_hw655.2.2 k0_h10

def k0_off1735 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c137_i32 : BitVec 32 := 137#32
  let v2404 : BitVec 32 := Scalar.addi v74 c137_i32
  let v2405 : Index := Scalar.indexCast v2404
  ![v2405.toNat]
def k0_mult650 (v2406 : BitVec 32) : BitVec 32 :=
  let c3_i32_1009 : BitVec 32 := 3#32
  let v2407 : BitVec 32 := Scalar.shrsi v2406 c3_i32_1009
  let c8191_i32_1010 : BitVec 32 := 8191#32
  let v2408 : BitVec 32 := Scalar.andi v2407 c8191_i32_1010
  let c8_i32_1011 : BitVec 32 := 8#32
  let v2409 : BitVec 32 := Scalar.muli v2408 c8_i32_1011
  v2409

def k0_off1736 (v2406 : BitVec 32) : Fin 2 → Nat :=
  let c3_i32_1009 : BitVec 32 := 3#32
  let v2407 : BitVec 32 := Scalar.shrsi v2406 c3_i32_1009
  let c8191_i32_1010 : BitVec 32 := 8191#32
  let v2408 : BitVec 32 := Scalar.andi v2407 c8191_i32_1010
  let c8_i32_1011 : BitVec 32 := 8#32
  let v2409 : BitVec 32 := Scalar.muli v2408 c8_i32_1011
  let v2410 : BitVec 32 := v2409
  let v2411 : Index := Scalar.indexCast v2410
  let c0_1012 : Index := 0#32
  ![v2411.toNat, 0]
def k0_off1737 (v2406 : BitVec 32) : Fin 2 → Nat :=
  let c3_i32_1009 : BitVec 32 := 3#32
  let v2407 : BitVec 32 := Scalar.shrsi v2406 c3_i32_1009
  let c8191_i32_1010 : BitVec 32 := 8191#32
  let v2408 : BitVec 32 := Scalar.andi v2407 c8191_i32_1010
  let v2416 : Index := Scalar.indexCast v2408
  let c0_1014 : Index := 0#32
  ![v2416.toNat, 0]

def k0_chk656 (i : grid0.Coords) (v48 : BitVec 32) (v2406 : BitVec 32) : Prop :=
  (∀ (k0_h10 : k0_cond10 i v48 = 1#1), 8 ∣ (k0_mult650 v2406).toNat) ∧
  (∀ (k0_h10 : k0_cond10 i v48 = 1#1), ∀ a, (k0_off1736 v2406) a + S8x128.size a ≤ S65536x128.size a) ∧
  (∀ (k0_h10 : k0_cond10 i v48 = 1#1), ∀ a, (k0_off1737 v2406) a + S1x128.size a ≤ S8192x128.size a)
theorem k0_mult650_dvd : ∀ (i : grid0.Coords) (v48 : BitVec 32) (v2406 : BitVec 32) (k0_hw656 : k0_chk656 i v48 v2406), ∀ (k0_h10 : k0_cond10 i v48 = 1#1), 8 ∣ (k0_mult650 v2406).toNat := fun i v48 v2406 k0_hw656 k0_h10 => k0_hw656.1 k0_h10
theorem k0_off1736_inb : ∀ (i : grid0.Coords) (v48 : BitVec 32) (v2406 : BitVec 32) (k0_hw656 : k0_chk656 i v48 v2406), ∀ (k0_h10 : k0_cond10 i v48 = 1#1), ∀ a, (k0_off1736 v2406) a + S8x128.size a ≤ S65536x128.size a := fun i v48 v2406 k0_hw656 k0_h10 => k0_hw656.2.1 k0_h10
theorem k0_off1737_inb : ∀ (i : grid0.Coords) (v48 : BitVec 32) (v2406 : BitVec 32) (k0_hw656 : k0_chk656 i v48 v2406), ∀ (k0_h10 : k0_cond10 i v48 = 1#1), ∀ a, (k0_off1737 v2406) a + S1x128.size a ≤ S8192x128.size a := fun i v48 v2406 k0_hw656 k0_h10 => k0_hw656.2.2 k0_h10

def k0_off1738 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c138_i32 : BitVec 32 := 138#32
  let v2421 : BitVec 32 := Scalar.addi v74 c138_i32
  let v2422 : Index := Scalar.indexCast v2421
  ![v2422.toNat]
def k0_mult651 (v2423 : BitVec 32) : BitVec 32 :=
  let c3_i32_1016 : BitVec 32 := 3#32
  let v2424 : BitVec 32 := Scalar.shrsi v2423 c3_i32_1016
  let c8191_i32_1017 : BitVec 32 := 8191#32
  let v2425 : BitVec 32 := Scalar.andi v2424 c8191_i32_1017
  let c8_i32_1018 : BitVec 32 := 8#32
  let v2426 : BitVec 32 := Scalar.muli v2425 c8_i32_1018
  v2426

def k0_off1739 (v2423 : BitVec 32) : Fin 2 → Nat :=
  let c3_i32_1016 : BitVec 32 := 3#32
  let v2424 : BitVec 32 := Scalar.shrsi v2423 c3_i32_1016
  let c8191_i32_1017 : BitVec 32 := 8191#32
  let v2425 : BitVec 32 := Scalar.andi v2424 c8191_i32_1017
  let c8_i32_1018 : BitVec 32 := 8#32
  let v2426 : BitVec 32 := Scalar.muli v2425 c8_i32_1018
  let v2427 : BitVec 32 := v2426
  let v2428 : Index := Scalar.indexCast v2427
  let c0_1019 : Index := 0#32
  ![v2428.toNat, 0]
def k0_off1740 (v2423 : BitVec 32) : Fin 2 → Nat :=
  let c3_i32_1016 : BitVec 32 := 3#32
  let v2424 : BitVec 32 := Scalar.shrsi v2423 c3_i32_1016
  let c8191_i32_1017 : BitVec 32 := 8191#32
  let v2425 : BitVec 32 := Scalar.andi v2424 c8191_i32_1017
  let v2433 : Index := Scalar.indexCast v2425
  let c0_1021 : Index := 0#32
  ![v2433.toNat, 0]

def k0_chk657 (i : grid0.Coords) (v48 : BitVec 32) (v2423 : BitVec 32) : Prop :=
  (∀ (k0_h10 : k0_cond10 i v48 = 1#1), 8 ∣ (k0_mult651 v2423).toNat) ∧
  (∀ (k0_h10 : k0_cond10 i v48 = 1#1), ∀ a, (k0_off1739 v2423) a + S8x128.size a ≤ S65536x128.size a) ∧
  (∀ (k0_h10 : k0_cond10 i v48 = 1#1), ∀ a, (k0_off1740 v2423) a + S1x128.size a ≤ S8192x128.size a)
theorem k0_mult651_dvd : ∀ (i : grid0.Coords) (v48 : BitVec 32) (v2423 : BitVec 32) (k0_hw657 : k0_chk657 i v48 v2423), ∀ (k0_h10 : k0_cond10 i v48 = 1#1), 8 ∣ (k0_mult651 v2423).toNat := fun i v48 v2423 k0_hw657 k0_h10 => k0_hw657.1 k0_h10
theorem k0_off1739_inb : ∀ (i : grid0.Coords) (v48 : BitVec 32) (v2423 : BitVec 32) (k0_hw657 : k0_chk657 i v48 v2423), ∀ (k0_h10 : k0_cond10 i v48 = 1#1), ∀ a, (k0_off1739 v2423) a + S8x128.size a ≤ S65536x128.size a := fun i v48 v2423 k0_hw657 k0_h10 => k0_hw657.2.1 k0_h10
theorem k0_off1740_inb : ∀ (i : grid0.Coords) (v48 : BitVec 32) (v2423 : BitVec 32) (k0_hw657 : k0_chk657 i v48 v2423), ∀ (k0_h10 : k0_cond10 i v48 = 1#1), ∀ a, (k0_off1740 v2423) a + S1x128.size a ≤ S8192x128.size a := fun i v48 v2423 k0_hw657 k0_h10 => k0_hw657.2.2 k0_h10

def k0_off1741 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c139_i32 : BitVec 32 := 139#32
  let v2438 : BitVec 32 := Scalar.addi v74 c139_i32
  let v2439 : Index := Scalar.indexCast v2438
  ![v2439.toNat]
def k0_mult652 (v2440 : BitVec 32) : BitVec 32 :=
  let c3_i32_1023 : BitVec 32 := 3#32
  let v2441 : BitVec 32 := Scalar.shrsi v2440 c3_i32_1023
  let c8191_i32_1024 : BitVec 32 := 8191#32
  let v2442 : BitVec 32 := Scalar.andi v2441 c8191_i32_1024
  let c8_i32_1025 : BitVec 32 := 8#32
  let v2443 : BitVec 32 := Scalar.muli v2442 c8_i32_1025
  v2443

def k0_off1742 (v2440 : BitVec 32) : Fin 2 → Nat :=
  let c3_i32_1023 : BitVec 32 := 3#32
  let v2441 : BitVec 32 := Scalar.shrsi v2440 c3_i32_1023
  let c8191_i32_1024 : BitVec 32 := 8191#32
  let v2442 : BitVec 32 := Scalar.andi v2441 c8191_i32_1024
  let c8_i32_1025 : BitVec 32 := 8#32
  let v2443 : BitVec 32 := Scalar.muli v2442 c8_i32_1025
  let v2444 : BitVec 32 := v2443
  let v2445 : Index := Scalar.indexCast v2444
  let c0_1026 : Index := 0#32
  ![v2445.toNat, 0]
def k0_off1743 (v2440 : BitVec 32) : Fin 2 → Nat :=
  let c3_i32_1023 : BitVec 32 := 3#32
  let v2441 : BitVec 32 := Scalar.shrsi v2440 c3_i32_1023
  let c8191_i32_1024 : BitVec 32 := 8191#32
  let v2442 : BitVec 32 := Scalar.andi v2441 c8191_i32_1024
  let v2450 : Index := Scalar.indexCast v2442
  let c0_1028 : Index := 0#32
  ![v2450.toNat, 0]

def k0_chk658 (i : grid0.Coords) (v48 : BitVec 32) (v2440 : BitVec 32) : Prop :=
  (∀ (k0_h10 : k0_cond10 i v48 = 1#1), 8 ∣ (k0_mult652 v2440).toNat) ∧
  (∀ (k0_h10 : k0_cond10 i v48 = 1#1), ∀ a, (k0_off1742 v2440) a + S8x128.size a ≤ S65536x128.size a) ∧
  (∀ (k0_h10 : k0_cond10 i v48 = 1#1), ∀ a, (k0_off1743 v2440) a + S1x128.size a ≤ S8192x128.size a)
theorem k0_mult652_dvd : ∀ (i : grid0.Coords) (v48 : BitVec 32) (v2440 : BitVec 32) (k0_hw658 : k0_chk658 i v48 v2440), ∀ (k0_h10 : k0_cond10 i v48 = 1#1), 8 ∣ (k0_mult652 v2440).toNat := fun i v48 v2440 k0_hw658 k0_h10 => k0_hw658.1 k0_h10
theorem k0_off1742_inb : ∀ (i : grid0.Coords) (v48 : BitVec 32) (v2440 : BitVec 32) (k0_hw658 : k0_chk658 i v48 v2440), ∀ (k0_h10 : k0_cond10 i v48 = 1#1), ∀ a, (k0_off1742 v2440) a + S8x128.size a ≤ S65536x128.size a := fun i v48 v2440 k0_hw658 k0_h10 => k0_hw658.2.1 k0_h10
theorem k0_off1743_inb : ∀ (i : grid0.Coords) (v48 : BitVec 32) (v2440 : BitVec 32) (k0_hw658 : k0_chk658 i v48 v2440), ∀ (k0_h10 : k0_cond10 i v48 = 1#1), ∀ a, (k0_off1743 v2440) a + S1x128.size a ≤ S8192x128.size a := fun i v48 v2440 k0_hw658 k0_h10 => k0_hw658.2.2 k0_h10

def k0_off1744 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c140_i32 : BitVec 32 := 140#32
  let v2455 : BitVec 32 := Scalar.addi v74 c140_i32
  let v2456 : Index := Scalar.indexCast v2455
  ![v2456.toNat]
def k0_mult653 (v2457 : BitVec 32) : BitVec 32 :=
  let c3_i32_1030 : BitVec 32 := 3#32
  let v2458 : BitVec 32 := Scalar.shrsi v2457 c3_i32_1030
  let c8191_i32_1031 : BitVec 32 := 8191#32
  let v2459 : BitVec 32 := Scalar.andi v2458 c8191_i32_1031
  let c8_i32_1032 : BitVec 32 := 8#32
  let v2460 : BitVec 32 := Scalar.muli v2459 c8_i32_1032
  v2460

def k0_off1745 (v2457 : BitVec 32) : Fin 2 → Nat :=
  let c3_i32_1030 : BitVec 32 := 3#32
  let v2458 : BitVec 32 := Scalar.shrsi v2457 c3_i32_1030
  let c8191_i32_1031 : BitVec 32 := 8191#32
  let v2459 : BitVec 32 := Scalar.andi v2458 c8191_i32_1031
  let c8_i32_1032 : BitVec 32 := 8#32
  let v2460 : BitVec 32 := Scalar.muli v2459 c8_i32_1032
  let v2461 : BitVec 32 := v2460
  let v2462 : Index := Scalar.indexCast v2461
  let c0_1033 : Index := 0#32
  ![v2462.toNat, 0]
def k0_off1746 (v2457 : BitVec 32) : Fin 2 → Nat :=
  let c3_i32_1030 : BitVec 32 := 3#32
  let v2458 : BitVec 32 := Scalar.shrsi v2457 c3_i32_1030
  let c8191_i32_1031 : BitVec 32 := 8191#32
  let v2459 : BitVec 32 := Scalar.andi v2458 c8191_i32_1031
  let v2467 : Index := Scalar.indexCast v2459
  let c0_1035 : Index := 0#32
  ![v2467.toNat, 0]

def k0_chk659 (i : grid0.Coords) (v48 : BitVec 32) (v2457 : BitVec 32) : Prop :=
  (∀ (k0_h10 : k0_cond10 i v48 = 1#1), 8 ∣ (k0_mult653 v2457).toNat) ∧
  (∀ (k0_h10 : k0_cond10 i v48 = 1#1), ∀ a, (k0_off1745 v2457) a + S8x128.size a ≤ S65536x128.size a) ∧
  (∀ (k0_h10 : k0_cond10 i v48 = 1#1), ∀ a, (k0_off1746 v2457) a + S1x128.size a ≤ S8192x128.size a)
theorem k0_mult653_dvd : ∀ (i : grid0.Coords) (v48 : BitVec 32) (v2457 : BitVec 32) (k0_hw659 : k0_chk659 i v48 v2457), ∀ (k0_h10 : k0_cond10 i v48 = 1#1), 8 ∣ (k0_mult653 v2457).toNat := fun i v48 v2457 k0_hw659 k0_h10 => k0_hw659.1 k0_h10
theorem k0_off1745_inb : ∀ (i : grid0.Coords) (v48 : BitVec 32) (v2457 : BitVec 32) (k0_hw659 : k0_chk659 i v48 v2457), ∀ (k0_h10 : k0_cond10 i v48 = 1#1), ∀ a, (k0_off1745 v2457) a + S8x128.size a ≤ S65536x128.size a := fun i v48 v2457 k0_hw659 k0_h10 => k0_hw659.2.1 k0_h10
theorem k0_off1746_inb : ∀ (i : grid0.Coords) (v48 : BitVec 32) (v2457 : BitVec 32) (k0_hw659 : k0_chk659 i v48 v2457), ∀ (k0_h10 : k0_cond10 i v48 = 1#1), ∀ a, (k0_off1746 v2457) a + S1x128.size a ≤ S8192x128.size a := fun i v48 v2457 k0_hw659 k0_h10 => k0_hw659.2.2 k0_h10

def k0_off1747 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c141_i32 : BitVec 32 := 141#32
  let v2472 : BitVec 32 := Scalar.addi v74 c141_i32
  let v2473 : Index := Scalar.indexCast v2472
  ![v2473.toNat]
def k0_mult654 (v2474 : BitVec 32) : BitVec 32 :=
  let c3_i32_1037 : BitVec 32 := 3#32
  let v2475 : BitVec 32 := Scalar.shrsi v2474 c3_i32_1037
  let c8191_i32_1038 : BitVec 32 := 8191#32
  let v2476 : BitVec 32 := Scalar.andi v2475 c8191_i32_1038
  let c8_i32_1039 : BitVec 32 := 8#32
  let v2477 : BitVec 32 := Scalar.muli v2476 c8_i32_1039
  v2477

def k0_off1748 (v2474 : BitVec 32) : Fin 2 → Nat :=
  let c3_i32_1037 : BitVec 32 := 3#32
  let v2475 : BitVec 32 := Scalar.shrsi v2474 c3_i32_1037
  let c8191_i32_1038 : BitVec 32 := 8191#32
  let v2476 : BitVec 32 := Scalar.andi v2475 c8191_i32_1038
  let c8_i32_1039 : BitVec 32 := 8#32
  let v2477 : BitVec 32 := Scalar.muli v2476 c8_i32_1039
  let v2478 : BitVec 32 := v2477
  let v2479 : Index := Scalar.indexCast v2478
  let c0_1040 : Index := 0#32
  ![v2479.toNat, 0]
def k0_off1749 (v2474 : BitVec 32) : Fin 2 → Nat :=
  let c3_i32_1037 : BitVec 32 := 3#32
  let v2475 : BitVec 32 := Scalar.shrsi v2474 c3_i32_1037
  let c8191_i32_1038 : BitVec 32 := 8191#32
  let v2476 : BitVec 32 := Scalar.andi v2475 c8191_i32_1038
  let v2484 : Index := Scalar.indexCast v2476
  let c0_1042 : Index := 0#32
  ![v2484.toNat, 0]

def k0_chk660 (i : grid0.Coords) (v48 : BitVec 32) (v2474 : BitVec 32) : Prop :=
  (∀ (k0_h10 : k0_cond10 i v48 = 1#1), 8 ∣ (k0_mult654 v2474).toNat) ∧
  (∀ (k0_h10 : k0_cond10 i v48 = 1#1), ∀ a, (k0_off1748 v2474) a + S8x128.size a ≤ S65536x128.size a) ∧
  (∀ (k0_h10 : k0_cond10 i v48 = 1#1), ∀ a, (k0_off1749 v2474) a + S1x128.size a ≤ S8192x128.size a)
theorem k0_mult654_dvd : ∀ (i : grid0.Coords) (v48 : BitVec 32) (v2474 : BitVec 32) (k0_hw660 : k0_chk660 i v48 v2474), ∀ (k0_h10 : k0_cond10 i v48 = 1#1), 8 ∣ (k0_mult654 v2474).toNat := fun i v48 v2474 k0_hw660 k0_h10 => k0_hw660.1 k0_h10
theorem k0_off1748_inb : ∀ (i : grid0.Coords) (v48 : BitVec 32) (v2474 : BitVec 32) (k0_hw660 : k0_chk660 i v48 v2474), ∀ (k0_h10 : k0_cond10 i v48 = 1#1), ∀ a, (k0_off1748 v2474) a + S8x128.size a ≤ S65536x128.size a := fun i v48 v2474 k0_hw660 k0_h10 => k0_hw660.2.1 k0_h10
theorem k0_off1749_inb : ∀ (i : grid0.Coords) (v48 : BitVec 32) (v2474 : BitVec 32) (k0_hw660 : k0_chk660 i v48 v2474), ∀ (k0_h10 : k0_cond10 i v48 = 1#1), ∀ a, (k0_off1749 v2474) a + S1x128.size a ≤ S8192x128.size a := fun i v48 v2474 k0_hw660 k0_h10 => k0_hw660.2.2 k0_h10

def k0_off1750 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c142_i32 : BitVec 32 := 142#32
  let v2489 : BitVec 32 := Scalar.addi v74 c142_i32
  let v2490 : Index := Scalar.indexCast v2489
  ![v2490.toNat]
def k0_mult655 (v2491 : BitVec 32) : BitVec 32 :=
  let c3_i32_1044 : BitVec 32 := 3#32
  let v2492 : BitVec 32 := Scalar.shrsi v2491 c3_i32_1044
  let c8191_i32_1045 : BitVec 32 := 8191#32
  let v2493 : BitVec 32 := Scalar.andi v2492 c8191_i32_1045
  let c8_i32_1046 : BitVec 32 := 8#32
  let v2494 : BitVec 32 := Scalar.muli v2493 c8_i32_1046
  v2494

def k0_off1751 (v2491 : BitVec 32) : Fin 2 → Nat :=
  let c3_i32_1044 : BitVec 32 := 3#32
  let v2492 : BitVec 32 := Scalar.shrsi v2491 c3_i32_1044
  let c8191_i32_1045 : BitVec 32 := 8191#32
  let v2493 : BitVec 32 := Scalar.andi v2492 c8191_i32_1045
  let c8_i32_1046 : BitVec 32 := 8#32
  let v2494 : BitVec 32 := Scalar.muli v2493 c8_i32_1046
  let v2495 : BitVec 32 := v2494
  let v2496 : Index := Scalar.indexCast v2495
  let c0_1047 : Index := 0#32
  ![v2496.toNat, 0]
def k0_off1752 (v2491 : BitVec 32) : Fin 2 → Nat :=
  let c3_i32_1044 : BitVec 32 := 3#32
  let v2492 : BitVec 32 := Scalar.shrsi v2491 c3_i32_1044
  let c8191_i32_1045 : BitVec 32 := 8191#32
  let v2493 : BitVec 32 := Scalar.andi v2492 c8191_i32_1045
  let v2501 : Index := Scalar.indexCast v2493
  let c0_1049 : Index := 0#32
  ![v2501.toNat, 0]

def k0_chk661 (i : grid0.Coords) (v48 : BitVec 32) (v2491 : BitVec 32) : Prop :=
  (∀ (k0_h10 : k0_cond10 i v48 = 1#1), 8 ∣ (k0_mult655 v2491).toNat) ∧
  (∀ (k0_h10 : k0_cond10 i v48 = 1#1), ∀ a, (k0_off1751 v2491) a + S8x128.size a ≤ S65536x128.size a) ∧
  (∀ (k0_h10 : k0_cond10 i v48 = 1#1), ∀ a, (k0_off1752 v2491) a + S1x128.size a ≤ S8192x128.size a)
theorem k0_mult655_dvd : ∀ (i : grid0.Coords) (v48 : BitVec 32) (v2491 : BitVec 32) (k0_hw661 : k0_chk661 i v48 v2491), ∀ (k0_h10 : k0_cond10 i v48 = 1#1), 8 ∣ (k0_mult655 v2491).toNat := fun i v48 v2491 k0_hw661 k0_h10 => k0_hw661.1 k0_h10
theorem k0_off1751_inb : ∀ (i : grid0.Coords) (v48 : BitVec 32) (v2491 : BitVec 32) (k0_hw661 : k0_chk661 i v48 v2491), ∀ (k0_h10 : k0_cond10 i v48 = 1#1), ∀ a, (k0_off1751 v2491) a + S8x128.size a ≤ S65536x128.size a := fun i v48 v2491 k0_hw661 k0_h10 => k0_hw661.2.1 k0_h10
theorem k0_off1752_inb : ∀ (i : grid0.Coords) (v48 : BitVec 32) (v2491 : BitVec 32) (k0_hw661 : k0_chk661 i v48 v2491), ∀ (k0_h10 : k0_cond10 i v48 = 1#1), ∀ a, (k0_off1752 v2491) a + S1x128.size a ≤ S8192x128.size a := fun i v48 v2491 k0_hw661 k0_h10 => k0_hw661.2.2 k0_h10

def k0_off1753 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c143_i32 : BitVec 32 := 143#32
  let v2506 : BitVec 32 := Scalar.addi v74 c143_i32
  let v2507 : Index := Scalar.indexCast v2506
  ![v2507.toNat]
def k0_mult656 (v2508 : BitVec 32) : BitVec 32 :=
  let c3_i32_1051 : BitVec 32 := 3#32
  let v2509 : BitVec 32 := Scalar.shrsi v2508 c3_i32_1051
  let c8191_i32_1052 : BitVec 32 := 8191#32
  let v2510 : BitVec 32 := Scalar.andi v2509 c8191_i32_1052
  let c8_i32_1053 : BitVec 32 := 8#32
  let v2511 : BitVec 32 := Scalar.muli v2510 c8_i32_1053
  v2511

def k0_off1754 (v2508 : BitVec 32) : Fin 2 → Nat :=
  let c3_i32_1051 : BitVec 32 := 3#32
  let v2509 : BitVec 32 := Scalar.shrsi v2508 c3_i32_1051
  let c8191_i32_1052 : BitVec 32 := 8191#32
  let v2510 : BitVec 32 := Scalar.andi v2509 c8191_i32_1052
  let c8_i32_1053 : BitVec 32 := 8#32
  let v2511 : BitVec 32 := Scalar.muli v2510 c8_i32_1053
  let v2512 : BitVec 32 := v2511
  let v2513 : Index := Scalar.indexCast v2512
  let c0_1054 : Index := 0#32
  ![v2513.toNat, 0]
def k0_off1755 (v2508 : BitVec 32) : Fin 2 → Nat :=
  let c3_i32_1051 : BitVec 32 := 3#32
  let v2509 : BitVec 32 := Scalar.shrsi v2508 c3_i32_1051
  let c8191_i32_1052 : BitVec 32 := 8191#32
  let v2510 : BitVec 32 := Scalar.andi v2509 c8191_i32_1052
  let v2518 : Index := Scalar.indexCast v2510
  let c0_1056 : Index := 0#32
  ![v2518.toNat, 0]

def k0_chk662 (i : grid0.Coords) (v48 : BitVec 32) (v2508 : BitVec 32) : Prop :=
  (∀ (k0_h10 : k0_cond10 i v48 = 1#1), 8 ∣ (k0_mult656 v2508).toNat) ∧
  (∀ (k0_h10 : k0_cond10 i v48 = 1#1), ∀ a, (k0_off1754 v2508) a + S8x128.size a ≤ S65536x128.size a) ∧
  (∀ (k0_h10 : k0_cond10 i v48 = 1#1), ∀ a, (k0_off1755 v2508) a + S1x128.size a ≤ S8192x128.size a)
theorem k0_mult656_dvd : ∀ (i : grid0.Coords) (v48 : BitVec 32) (v2508 : BitVec 32) (k0_hw662 : k0_chk662 i v48 v2508), ∀ (k0_h10 : k0_cond10 i v48 = 1#1), 8 ∣ (k0_mult656 v2508).toNat := fun i v48 v2508 k0_hw662 k0_h10 => k0_hw662.1 k0_h10
theorem k0_off1754_inb : ∀ (i : grid0.Coords) (v48 : BitVec 32) (v2508 : BitVec 32) (k0_hw662 : k0_chk662 i v48 v2508), ∀ (k0_h10 : k0_cond10 i v48 = 1#1), ∀ a, (k0_off1754 v2508) a + S8x128.size a ≤ S65536x128.size a := fun i v48 v2508 k0_hw662 k0_h10 => k0_hw662.2.1 k0_h10
theorem k0_off1755_inb : ∀ (i : grid0.Coords) (v48 : BitVec 32) (v2508 : BitVec 32) (k0_hw662 : k0_chk662 i v48 v2508), ∀ (k0_h10 : k0_cond10 i v48 = 1#1), ∀ a, (k0_off1755 v2508) a + S1x128.size a ≤ S8192x128.size a := fun i v48 v2508 k0_hw662 k0_h10 => k0_hw662.2.2 k0_h10

def k0_off1756 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c144_i32 : BitVec 32 := 144#32
  let v2523 : BitVec 32 := Scalar.addi v74 c144_i32
  let v2524 : Index := Scalar.indexCast v2523
  ![v2524.toNat]
def k0_mult657 (v2525 : BitVec 32) : BitVec 32 :=
  let c3_i32_1058 : BitVec 32 := 3#32
  let v2526 : BitVec 32 := Scalar.shrsi v2525 c3_i32_1058
  let c8191_i32_1059 : BitVec 32 := 8191#32
  let v2527 : BitVec 32 := Scalar.andi v2526 c8191_i32_1059
  let c8_i32_1060 : BitVec 32 := 8#32
  let v2528 : BitVec 32 := Scalar.muli v2527 c8_i32_1060
  v2528

def k0_off1757 (v2525 : BitVec 32) : Fin 2 → Nat :=
  let c3_i32_1058 : BitVec 32 := 3#32
  let v2526 : BitVec 32 := Scalar.shrsi v2525 c3_i32_1058
  let c8191_i32_1059 : BitVec 32 := 8191#32
  let v2527 : BitVec 32 := Scalar.andi v2526 c8191_i32_1059
  let c8_i32_1060 : BitVec 32 := 8#32
  let v2528 : BitVec 32 := Scalar.muli v2527 c8_i32_1060
  let v2529 : BitVec 32 := v2528
  let v2530 : Index := Scalar.indexCast v2529
  let c0_1061 : Index := 0#32
  ![v2530.toNat, 0]
def k0_off1758 (v2525 : BitVec 32) : Fin 2 → Nat :=
  let c3_i32_1058 : BitVec 32 := 3#32
  let v2526 : BitVec 32 := Scalar.shrsi v2525 c3_i32_1058
  let c8191_i32_1059 : BitVec 32 := 8191#32
  let v2527 : BitVec 32 := Scalar.andi v2526 c8191_i32_1059
  let v2535 : Index := Scalar.indexCast v2527
  let c0_1063 : Index := 0#32
  ![v2535.toNat, 0]

def k0_chk663 (i : grid0.Coords) (v48 : BitVec 32) (v2525 : BitVec 32) : Prop :=
  (∀ (k0_h10 : k0_cond10 i v48 = 1#1), 8 ∣ (k0_mult657 v2525).toNat) ∧
  (∀ (k0_h10 : k0_cond10 i v48 = 1#1), ∀ a, (k0_off1757 v2525) a + S8x128.size a ≤ S65536x128.size a) ∧
  (∀ (k0_h10 : k0_cond10 i v48 = 1#1), ∀ a, (k0_off1758 v2525) a + S1x128.size a ≤ S8192x128.size a)
theorem k0_mult657_dvd : ∀ (i : grid0.Coords) (v48 : BitVec 32) (v2525 : BitVec 32) (k0_hw663 : k0_chk663 i v48 v2525), ∀ (k0_h10 : k0_cond10 i v48 = 1#1), 8 ∣ (k0_mult657 v2525).toNat := fun i v48 v2525 k0_hw663 k0_h10 => k0_hw663.1 k0_h10
theorem k0_off1757_inb : ∀ (i : grid0.Coords) (v48 : BitVec 32) (v2525 : BitVec 32) (k0_hw663 : k0_chk663 i v48 v2525), ∀ (k0_h10 : k0_cond10 i v48 = 1#1), ∀ a, (k0_off1757 v2525) a + S8x128.size a ≤ S65536x128.size a := fun i v48 v2525 k0_hw663 k0_h10 => k0_hw663.2.1 k0_h10
theorem k0_off1758_inb : ∀ (i : grid0.Coords) (v48 : BitVec 32) (v2525 : BitVec 32) (k0_hw663 : k0_chk663 i v48 v2525), ∀ (k0_h10 : k0_cond10 i v48 = 1#1), ∀ a, (k0_off1758 v2525) a + S1x128.size a ≤ S8192x128.size a := fun i v48 v2525 k0_hw663 k0_h10 => k0_hw663.2.2 k0_h10

def k0_off1759 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c145_i32 : BitVec 32 := 145#32
  let v2540 : BitVec 32 := Scalar.addi v74 c145_i32
  let v2541 : Index := Scalar.indexCast v2540
  ![v2541.toNat]
def k0_mult658 (v2542 : BitVec 32) : BitVec 32 :=
  let c3_i32_1066 : BitVec 32 := 3#32
  let v2543 : BitVec 32 := Scalar.shrsi v2542 c3_i32_1066
  let c8191_i32_1067 : BitVec 32 := 8191#32
  let v2544 : BitVec 32 := Scalar.andi v2543 c8191_i32_1067
  let c8_i32_1068 : BitVec 32 := 8#32
  let v2545 : BitVec 32 := Scalar.muli v2544 c8_i32_1068
  v2545

def k0_off1760 (v2542 : BitVec 32) : Fin 2 → Nat :=
  let c3_i32_1066 : BitVec 32 := 3#32
  let v2543 : BitVec 32 := Scalar.shrsi v2542 c3_i32_1066
  let c8191_i32_1067 : BitVec 32 := 8191#32
  let v2544 : BitVec 32 := Scalar.andi v2543 c8191_i32_1067
  let c8_i32_1068 : BitVec 32 := 8#32
  let v2545 : BitVec 32 := Scalar.muli v2544 c8_i32_1068
  let v2546 : BitVec 32 := v2545
  let v2547 : Index := Scalar.indexCast v2546
  let c0_1069 : Index := 0#32
  ![v2547.toNat, 0]
def k0_off1761 (v2542 : BitVec 32) : Fin 2 → Nat :=
  let c3_i32_1066 : BitVec 32 := 3#32
  let v2543 : BitVec 32 := Scalar.shrsi v2542 c3_i32_1066
  let c8191_i32_1067 : BitVec 32 := 8191#32
  let v2544 : BitVec 32 := Scalar.andi v2543 c8191_i32_1067
  let v2552 : Index := Scalar.indexCast v2544
  let c0_1071 : Index := 0#32
  ![v2552.toNat, 0]

def k0_chk664 (i : grid0.Coords) (v48 : BitVec 32) (v2542 : BitVec 32) : Prop :=
  (∀ (k0_h10 : k0_cond10 i v48 = 1#1), 8 ∣ (k0_mult658 v2542).toNat) ∧
  (∀ (k0_h10 : k0_cond10 i v48 = 1#1), ∀ a, (k0_off1760 v2542) a + S8x128.size a ≤ S65536x128.size a) ∧
  (∀ (k0_h10 : k0_cond10 i v48 = 1#1), ∀ a, (k0_off1761 v2542) a + S1x128.size a ≤ S8192x128.size a)
theorem k0_mult658_dvd : ∀ (i : grid0.Coords) (v48 : BitVec 32) (v2542 : BitVec 32) (k0_hw664 : k0_chk664 i v48 v2542), ∀ (k0_h10 : k0_cond10 i v48 = 1#1), 8 ∣ (k0_mult658 v2542).toNat := fun i v48 v2542 k0_hw664 k0_h10 => k0_hw664.1 k0_h10
theorem k0_off1760_inb : ∀ (i : grid0.Coords) (v48 : BitVec 32) (v2542 : BitVec 32) (k0_hw664 : k0_chk664 i v48 v2542), ∀ (k0_h10 : k0_cond10 i v48 = 1#1), ∀ a, (k0_off1760 v2542) a + S8x128.size a ≤ S65536x128.size a := fun i v48 v2542 k0_hw664 k0_h10 => k0_hw664.2.1 k0_h10
theorem k0_off1761_inb : ∀ (i : grid0.Coords) (v48 : BitVec 32) (v2542 : BitVec 32) (k0_hw664 : k0_chk664 i v48 v2542), ∀ (k0_h10 : k0_cond10 i v48 = 1#1), ∀ a, (k0_off1761 v2542) a + S1x128.size a ≤ S8192x128.size a := fun i v48 v2542 k0_hw664 k0_h10 => k0_hw664.2.2 k0_h10

def k0_off1762 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c146_i32 : BitVec 32 := 146#32
  let v2557 : BitVec 32 := Scalar.addi v74 c146_i32
  let v2558 : Index := Scalar.indexCast v2557
  ![v2558.toNat]
def k0_mult659 (v2559 : BitVec 32) : BitVec 32 :=
  let c3_i32_1073 : BitVec 32 := 3#32
  let v2560 : BitVec 32 := Scalar.shrsi v2559 c3_i32_1073
  let c8191_i32_1074 : BitVec 32 := 8191#32
  let v2561 : BitVec 32 := Scalar.andi v2560 c8191_i32_1074
  let c8_i32_1075 : BitVec 32 := 8#32
  let v2562 : BitVec 32 := Scalar.muli v2561 c8_i32_1075
  v2562

def k0_off1763 (v2559 : BitVec 32) : Fin 2 → Nat :=
  let c3_i32_1073 : BitVec 32 := 3#32
  let v2560 : BitVec 32 := Scalar.shrsi v2559 c3_i32_1073
  let c8191_i32_1074 : BitVec 32 := 8191#32
  let v2561 : BitVec 32 := Scalar.andi v2560 c8191_i32_1074
  let c8_i32_1075 : BitVec 32 := 8#32
  let v2562 : BitVec 32 := Scalar.muli v2561 c8_i32_1075
  let v2563 : BitVec 32 := v2562
  let v2564 : Index := Scalar.indexCast v2563
  let c0_1076 : Index := 0#32
  ![v2564.toNat, 0]
def k0_off1764 (v2559 : BitVec 32) : Fin 2 → Nat :=
  let c3_i32_1073 : BitVec 32 := 3#32
  let v2560 : BitVec 32 := Scalar.shrsi v2559 c3_i32_1073
  let c8191_i32_1074 : BitVec 32 := 8191#32
  let v2561 : BitVec 32 := Scalar.andi v2560 c8191_i32_1074
  let v2569 : Index := Scalar.indexCast v2561
  let c0_1078 : Index := 0#32
  ![v2569.toNat, 0]

def k0_chk665 (i : grid0.Coords) (v48 : BitVec 32) (v2559 : BitVec 32) : Prop :=
  (∀ (k0_h10 : k0_cond10 i v48 = 1#1), 8 ∣ (k0_mult659 v2559).toNat) ∧
  (∀ (k0_h10 : k0_cond10 i v48 = 1#1), ∀ a, (k0_off1763 v2559) a + S8x128.size a ≤ S65536x128.size a) ∧
  (∀ (k0_h10 : k0_cond10 i v48 = 1#1), ∀ a, (k0_off1764 v2559) a + S1x128.size a ≤ S8192x128.size a)
theorem k0_mult659_dvd : ∀ (i : grid0.Coords) (v48 : BitVec 32) (v2559 : BitVec 32) (k0_hw665 : k0_chk665 i v48 v2559), ∀ (k0_h10 : k0_cond10 i v48 = 1#1), 8 ∣ (k0_mult659 v2559).toNat := fun i v48 v2559 k0_hw665 k0_h10 => k0_hw665.1 k0_h10
theorem k0_off1763_inb : ∀ (i : grid0.Coords) (v48 : BitVec 32) (v2559 : BitVec 32) (k0_hw665 : k0_chk665 i v48 v2559), ∀ (k0_h10 : k0_cond10 i v48 = 1#1), ∀ a, (k0_off1763 v2559) a + S8x128.size a ≤ S65536x128.size a := fun i v48 v2559 k0_hw665 k0_h10 => k0_hw665.2.1 k0_h10
theorem k0_off1764_inb : ∀ (i : grid0.Coords) (v48 : BitVec 32) (v2559 : BitVec 32) (k0_hw665 : k0_chk665 i v48 v2559), ∀ (k0_h10 : k0_cond10 i v48 = 1#1), ∀ a, (k0_off1764 v2559) a + S1x128.size a ≤ S8192x128.size a := fun i v48 v2559 k0_hw665 k0_h10 => k0_hw665.2.2 k0_h10

def k0_off1765 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c147_i32 : BitVec 32 := 147#32
  let v2574 : BitVec 32 := Scalar.addi v74 c147_i32
  let v2575 : Index := Scalar.indexCast v2574
  ![v2575.toNat]
def k0_mult660 (v2576 : BitVec 32) : BitVec 32 :=
  let c3_i32_1080 : BitVec 32 := 3#32
  let v2577 : BitVec 32 := Scalar.shrsi v2576 c3_i32_1080
  let c8191_i32_1081 : BitVec 32 := 8191#32
  let v2578 : BitVec 32 := Scalar.andi v2577 c8191_i32_1081
  let c8_i32_1082 : BitVec 32 := 8#32
  let v2579 : BitVec 32 := Scalar.muli v2578 c8_i32_1082
  v2579

def k0_off1766 (v2576 : BitVec 32) : Fin 2 → Nat :=
  let c3_i32_1080 : BitVec 32 := 3#32
  let v2577 : BitVec 32 := Scalar.shrsi v2576 c3_i32_1080
  let c8191_i32_1081 : BitVec 32 := 8191#32
  let v2578 : BitVec 32 := Scalar.andi v2577 c8191_i32_1081
  let c8_i32_1082 : BitVec 32 := 8#32
  let v2579 : BitVec 32 := Scalar.muli v2578 c8_i32_1082
  let v2580 : BitVec 32 := v2579
  let v2581 : Index := Scalar.indexCast v2580
  let c0_1083 : Index := 0#32
  ![v2581.toNat, 0]
def k0_off1767 (v2576 : BitVec 32) : Fin 2 → Nat :=
  let c3_i32_1080 : BitVec 32 := 3#32
  let v2577 : BitVec 32 := Scalar.shrsi v2576 c3_i32_1080
  let c8191_i32_1081 : BitVec 32 := 8191#32
  let v2578 : BitVec 32 := Scalar.andi v2577 c8191_i32_1081
  let v2586 : Index := Scalar.indexCast v2578
  let c0_1085 : Index := 0#32
  ![v2586.toNat, 0]

def k0_chk666 (i : grid0.Coords) (v48 : BitVec 32) (v2576 : BitVec 32) : Prop :=
  (∀ (k0_h10 : k0_cond10 i v48 = 1#1), 8 ∣ (k0_mult660 v2576).toNat) ∧
  (∀ (k0_h10 : k0_cond10 i v48 = 1#1), ∀ a, (k0_off1766 v2576) a + S8x128.size a ≤ S65536x128.size a) ∧
  (∀ (k0_h10 : k0_cond10 i v48 = 1#1), ∀ a, (k0_off1767 v2576) a + S1x128.size a ≤ S8192x128.size a)
theorem k0_mult660_dvd : ∀ (i : grid0.Coords) (v48 : BitVec 32) (v2576 : BitVec 32) (k0_hw666 : k0_chk666 i v48 v2576), ∀ (k0_h10 : k0_cond10 i v48 = 1#1), 8 ∣ (k0_mult660 v2576).toNat := fun i v48 v2576 k0_hw666 k0_h10 => k0_hw666.1 k0_h10
theorem k0_off1766_inb : ∀ (i : grid0.Coords) (v48 : BitVec 32) (v2576 : BitVec 32) (k0_hw666 : k0_chk666 i v48 v2576), ∀ (k0_h10 : k0_cond10 i v48 = 1#1), ∀ a, (k0_off1766 v2576) a + S8x128.size a ≤ S65536x128.size a := fun i v48 v2576 k0_hw666 k0_h10 => k0_hw666.2.1 k0_h10
theorem k0_off1767_inb : ∀ (i : grid0.Coords) (v48 : BitVec 32) (v2576 : BitVec 32) (k0_hw666 : k0_chk666 i v48 v2576), ∀ (k0_h10 : k0_cond10 i v48 = 1#1), ∀ a, (k0_off1767 v2576) a + S1x128.size a ≤ S8192x128.size a := fun i v48 v2576 k0_hw666 k0_h10 => k0_hw666.2.2 k0_h10

def k0_off1768 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c148_i32 : BitVec 32 := 148#32
  let v2591 : BitVec 32 := Scalar.addi v74 c148_i32
  let v2592 : Index := Scalar.indexCast v2591
  ![v2592.toNat]
def k0_mult661 (v2593 : BitVec 32) : BitVec 32 :=
  let c3_i32_1087 : BitVec 32 := 3#32
  let v2594 : BitVec 32 := Scalar.shrsi v2593 c3_i32_1087
  let c8191_i32_1088 : BitVec 32 := 8191#32
  let v2595 : BitVec 32 := Scalar.andi v2594 c8191_i32_1088
  let c8_i32_1089 : BitVec 32 := 8#32
  let v2596 : BitVec 32 := Scalar.muli v2595 c8_i32_1089
  v2596

def k0_off1769 (v2593 : BitVec 32) : Fin 2 → Nat :=
  let c3_i32_1087 : BitVec 32 := 3#32
  let v2594 : BitVec 32 := Scalar.shrsi v2593 c3_i32_1087
  let c8191_i32_1088 : BitVec 32 := 8191#32
  let v2595 : BitVec 32 := Scalar.andi v2594 c8191_i32_1088
  let c8_i32_1089 : BitVec 32 := 8#32
  let v2596 : BitVec 32 := Scalar.muli v2595 c8_i32_1089
  let v2597 : BitVec 32 := v2596
  let v2598 : Index := Scalar.indexCast v2597
  let c0_1090 : Index := 0#32
  ![v2598.toNat, 0]
def k0_off1770 (v2593 : BitVec 32) : Fin 2 → Nat :=
  let c3_i32_1087 : BitVec 32 := 3#32
  let v2594 : BitVec 32 := Scalar.shrsi v2593 c3_i32_1087
  let c8191_i32_1088 : BitVec 32 := 8191#32
  let v2595 : BitVec 32 := Scalar.andi v2594 c8191_i32_1088
  let v2603 : Index := Scalar.indexCast v2595
  let c0_1092 : Index := 0#32
  ![v2603.toNat, 0]

def k0_chk667 (i : grid0.Coords) (v48 : BitVec 32) (v2593 : BitVec 32) : Prop :=
  (∀ (k0_h10 : k0_cond10 i v48 = 1#1), 8 ∣ (k0_mult661 v2593).toNat) ∧
  (∀ (k0_h10 : k0_cond10 i v48 = 1#1), ∀ a, (k0_off1769 v2593) a + S8x128.size a ≤ S65536x128.size a) ∧
  (∀ (k0_h10 : k0_cond10 i v48 = 1#1), ∀ a, (k0_off1770 v2593) a + S1x128.size a ≤ S8192x128.size a)
theorem k0_mult661_dvd : ∀ (i : grid0.Coords) (v48 : BitVec 32) (v2593 : BitVec 32) (k0_hw667 : k0_chk667 i v48 v2593), ∀ (k0_h10 : k0_cond10 i v48 = 1#1), 8 ∣ (k0_mult661 v2593).toNat := fun i v48 v2593 k0_hw667 k0_h10 => k0_hw667.1 k0_h10
theorem k0_off1769_inb : ∀ (i : grid0.Coords) (v48 : BitVec 32) (v2593 : BitVec 32) (k0_hw667 : k0_chk667 i v48 v2593), ∀ (k0_h10 : k0_cond10 i v48 = 1#1), ∀ a, (k0_off1769 v2593) a + S8x128.size a ≤ S65536x128.size a := fun i v48 v2593 k0_hw667 k0_h10 => k0_hw667.2.1 k0_h10
theorem k0_off1770_inb : ∀ (i : grid0.Coords) (v48 : BitVec 32) (v2593 : BitVec 32) (k0_hw667 : k0_chk667 i v48 v2593), ∀ (k0_h10 : k0_cond10 i v48 = 1#1), ∀ a, (k0_off1770 v2593) a + S1x128.size a ≤ S8192x128.size a := fun i v48 v2593 k0_hw667 k0_h10 => k0_hw667.2.2 k0_h10

def k0_off1771 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c149_i32 : BitVec 32 := 149#32
  let v2608 : BitVec 32 := Scalar.addi v74 c149_i32
  let v2609 : Index := Scalar.indexCast v2608
  ![v2609.toNat]
def k0_mult662 (v2610 : BitVec 32) : BitVec 32 :=
  let c3_i32_1094 : BitVec 32 := 3#32
  let v2611 : BitVec 32 := Scalar.shrsi v2610 c3_i32_1094
  let c8191_i32_1095 : BitVec 32 := 8191#32
  let v2612 : BitVec 32 := Scalar.andi v2611 c8191_i32_1095
  let c8_i32_1096 : BitVec 32 := 8#32
  let v2613 : BitVec 32 := Scalar.muli v2612 c8_i32_1096
  v2613

def k0_off1772 (v2610 : BitVec 32) : Fin 2 → Nat :=
  let c3_i32_1094 : BitVec 32 := 3#32
  let v2611 : BitVec 32 := Scalar.shrsi v2610 c3_i32_1094
  let c8191_i32_1095 : BitVec 32 := 8191#32
  let v2612 : BitVec 32 := Scalar.andi v2611 c8191_i32_1095
  let c8_i32_1096 : BitVec 32 := 8#32
  let v2613 : BitVec 32 := Scalar.muli v2612 c8_i32_1096
  let v2614 : BitVec 32 := v2613
  let v2615 : Index := Scalar.indexCast v2614
  let c0_1097 : Index := 0#32
  ![v2615.toNat, 0]
def k0_off1773 (v2610 : BitVec 32) : Fin 2 → Nat :=
  let c3_i32_1094 : BitVec 32 := 3#32
  let v2611 : BitVec 32 := Scalar.shrsi v2610 c3_i32_1094
  let c8191_i32_1095 : BitVec 32 := 8191#32
  let v2612 : BitVec 32 := Scalar.andi v2611 c8191_i32_1095
  let v2620 : Index := Scalar.indexCast v2612
  let c0_1099 : Index := 0#32
  ![v2620.toNat, 0]

def k0_chk668 (i : grid0.Coords) (v48 : BitVec 32) (v2610 : BitVec 32) : Prop :=
  (∀ (k0_h10 : k0_cond10 i v48 = 1#1), 8 ∣ (k0_mult662 v2610).toNat) ∧
  (∀ (k0_h10 : k0_cond10 i v48 = 1#1), ∀ a, (k0_off1772 v2610) a + S8x128.size a ≤ S65536x128.size a) ∧
  (∀ (k0_h10 : k0_cond10 i v48 = 1#1), ∀ a, (k0_off1773 v2610) a + S1x128.size a ≤ S8192x128.size a)
theorem k0_mult662_dvd : ∀ (i : grid0.Coords) (v48 : BitVec 32) (v2610 : BitVec 32) (k0_hw668 : k0_chk668 i v48 v2610), ∀ (k0_h10 : k0_cond10 i v48 = 1#1), 8 ∣ (k0_mult662 v2610).toNat := fun i v48 v2610 k0_hw668 k0_h10 => k0_hw668.1 k0_h10
theorem k0_off1772_inb : ∀ (i : grid0.Coords) (v48 : BitVec 32) (v2610 : BitVec 32) (k0_hw668 : k0_chk668 i v48 v2610), ∀ (k0_h10 : k0_cond10 i v48 = 1#1), ∀ a, (k0_off1772 v2610) a + S8x128.size a ≤ S65536x128.size a := fun i v48 v2610 k0_hw668 k0_h10 => k0_hw668.2.1 k0_h10
theorem k0_off1773_inb : ∀ (i : grid0.Coords) (v48 : BitVec 32) (v2610 : BitVec 32) (k0_hw668 : k0_chk668 i v48 v2610), ∀ (k0_h10 : k0_cond10 i v48 = 1#1), ∀ a, (k0_off1773 v2610) a + S1x128.size a ≤ S8192x128.size a := fun i v48 v2610 k0_hw668 k0_h10 => k0_hw668.2.2 k0_h10

def k0_off1774 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c150_i32 : BitVec 32 := 150#32
  let v2625 : BitVec 32 := Scalar.addi v74 c150_i32
  let v2626 : Index := Scalar.indexCast v2625
  ![v2626.toNat]
def k0_mult663 (v2627 : BitVec 32) : BitVec 32 :=
  let c3_i32_1101 : BitVec 32 := 3#32
  let v2628 : BitVec 32 := Scalar.shrsi v2627 c3_i32_1101
  let c8191_i32_1102 : BitVec 32 := 8191#32
  let v2629 : BitVec 32 := Scalar.andi v2628 c8191_i32_1102
  let c8_i32_1103 : BitVec 32 := 8#32
  let v2630 : BitVec 32 := Scalar.muli v2629 c8_i32_1103
  v2630

def k0_off1775 (v2627 : BitVec 32) : Fin 2 → Nat :=
  let c3_i32_1101 : BitVec 32 := 3#32
  let v2628 : BitVec 32 := Scalar.shrsi v2627 c3_i32_1101
  let c8191_i32_1102 : BitVec 32 := 8191#32
  let v2629 : BitVec 32 := Scalar.andi v2628 c8191_i32_1102
  let c8_i32_1103 : BitVec 32 := 8#32
  let v2630 : BitVec 32 := Scalar.muli v2629 c8_i32_1103
  let v2631 : BitVec 32 := v2630
  let v2632 : Index := Scalar.indexCast v2631
  let c0_1104 : Index := 0#32
  ![v2632.toNat, 0]
def k0_off1776 (v2627 : BitVec 32) : Fin 2 → Nat :=
  let c3_i32_1101 : BitVec 32 := 3#32
  let v2628 : BitVec 32 := Scalar.shrsi v2627 c3_i32_1101
  let c8191_i32_1102 : BitVec 32 := 8191#32
  let v2629 : BitVec 32 := Scalar.andi v2628 c8191_i32_1102
  let v2637 : Index := Scalar.indexCast v2629
  let c0_1106 : Index := 0#32
  ![v2637.toNat, 0]

def k0_chk669 (i : grid0.Coords) (v48 : BitVec 32) (v2627 : BitVec 32) : Prop :=
  (∀ (k0_h10 : k0_cond10 i v48 = 1#1), 8 ∣ (k0_mult663 v2627).toNat) ∧
  (∀ (k0_h10 : k0_cond10 i v48 = 1#1), ∀ a, (k0_off1775 v2627) a + S8x128.size a ≤ S65536x128.size a) ∧
  (∀ (k0_h10 : k0_cond10 i v48 = 1#1), ∀ a, (k0_off1776 v2627) a + S1x128.size a ≤ S8192x128.size a)
theorem k0_mult663_dvd : ∀ (i : grid0.Coords) (v48 : BitVec 32) (v2627 : BitVec 32) (k0_hw669 : k0_chk669 i v48 v2627), ∀ (k0_h10 : k0_cond10 i v48 = 1#1), 8 ∣ (k0_mult663 v2627).toNat := fun i v48 v2627 k0_hw669 k0_h10 => k0_hw669.1 k0_h10
theorem k0_off1775_inb : ∀ (i : grid0.Coords) (v48 : BitVec 32) (v2627 : BitVec 32) (k0_hw669 : k0_chk669 i v48 v2627), ∀ (k0_h10 : k0_cond10 i v48 = 1#1), ∀ a, (k0_off1775 v2627) a + S8x128.size a ≤ S65536x128.size a := fun i v48 v2627 k0_hw669 k0_h10 => k0_hw669.2.1 k0_h10
theorem k0_off1776_inb : ∀ (i : grid0.Coords) (v48 : BitVec 32) (v2627 : BitVec 32) (k0_hw669 : k0_chk669 i v48 v2627), ∀ (k0_h10 : k0_cond10 i v48 = 1#1), ∀ a, (k0_off1776 v2627) a + S1x128.size a ≤ S8192x128.size a := fun i v48 v2627 k0_hw669 k0_h10 => k0_hw669.2.2 k0_h10

def k0_off1777 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c151_i32 : BitVec 32 := 151#32
  let v2642 : BitVec 32 := Scalar.addi v74 c151_i32
  let v2643 : Index := Scalar.indexCast v2642
  ![v2643.toNat]
def k0_mult664 (v2644 : BitVec 32) : BitVec 32 :=
  let c3_i32_1108 : BitVec 32 := 3#32
  let v2645 : BitVec 32 := Scalar.shrsi v2644 c3_i32_1108
  let c8191_i32_1109 : BitVec 32 := 8191#32
  let v2646 : BitVec 32 := Scalar.andi v2645 c8191_i32_1109
  let c8_i32_1110 : BitVec 32 := 8#32
  let v2647 : BitVec 32 := Scalar.muli v2646 c8_i32_1110
  v2647

def k0_off1778 (v2644 : BitVec 32) : Fin 2 → Nat :=
  let c3_i32_1108 : BitVec 32 := 3#32
  let v2645 : BitVec 32 := Scalar.shrsi v2644 c3_i32_1108
  let c8191_i32_1109 : BitVec 32 := 8191#32
  let v2646 : BitVec 32 := Scalar.andi v2645 c8191_i32_1109
  let c8_i32_1110 : BitVec 32 := 8#32
  let v2647 : BitVec 32 := Scalar.muli v2646 c8_i32_1110
  let v2648 : BitVec 32 := v2647
  let v2649 : Index := Scalar.indexCast v2648
  let c0_1111 : Index := 0#32
  ![v2649.toNat, 0]
def k0_off1779 (v2644 : BitVec 32) : Fin 2 → Nat :=
  let c3_i32_1108 : BitVec 32 := 3#32
  let v2645 : BitVec 32 := Scalar.shrsi v2644 c3_i32_1108
  let c8191_i32_1109 : BitVec 32 := 8191#32
  let v2646 : BitVec 32 := Scalar.andi v2645 c8191_i32_1109
  let v2654 : Index := Scalar.indexCast v2646
  let c0_1113 : Index := 0#32
  ![v2654.toNat, 0]

def k0_chk670 (i : grid0.Coords) (v48 : BitVec 32) (v2644 : BitVec 32) : Prop :=
  (∀ (k0_h10 : k0_cond10 i v48 = 1#1), 8 ∣ (k0_mult664 v2644).toNat) ∧
  (∀ (k0_h10 : k0_cond10 i v48 = 1#1), ∀ a, (k0_off1778 v2644) a + S8x128.size a ≤ S65536x128.size a) ∧
  (∀ (k0_h10 : k0_cond10 i v48 = 1#1), ∀ a, (k0_off1779 v2644) a + S1x128.size a ≤ S8192x128.size a)
theorem k0_mult664_dvd : ∀ (i : grid0.Coords) (v48 : BitVec 32) (v2644 : BitVec 32) (k0_hw670 : k0_chk670 i v48 v2644), ∀ (k0_h10 : k0_cond10 i v48 = 1#1), 8 ∣ (k0_mult664 v2644).toNat := fun i v48 v2644 k0_hw670 k0_h10 => k0_hw670.1 k0_h10
theorem k0_off1778_inb : ∀ (i : grid0.Coords) (v48 : BitVec 32) (v2644 : BitVec 32) (k0_hw670 : k0_chk670 i v48 v2644), ∀ (k0_h10 : k0_cond10 i v48 = 1#1), ∀ a, (k0_off1778 v2644) a + S8x128.size a ≤ S65536x128.size a := fun i v48 v2644 k0_hw670 k0_h10 => k0_hw670.2.1 k0_h10
theorem k0_off1779_inb : ∀ (i : grid0.Coords) (v48 : BitVec 32) (v2644 : BitVec 32) (k0_hw670 : k0_chk670 i v48 v2644), ∀ (k0_h10 : k0_cond10 i v48 = 1#1), ∀ a, (k0_off1779 v2644) a + S1x128.size a ≤ S8192x128.size a := fun i v48 v2644 k0_hw670 k0_h10 => k0_hw670.2.2 k0_h10

def k0_off1780 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c152_i32 : BitVec 32 := 152#32
  let v2659 : BitVec 32 := Scalar.addi v74 c152_i32
  let v2660 : Index := Scalar.indexCast v2659
  ![v2660.toNat]
def k0_mult665 (v2661 : BitVec 32) : BitVec 32 :=
  let c3_i32_1115 : BitVec 32 := 3#32
  let v2662 : BitVec 32 := Scalar.shrsi v2661 c3_i32_1115
  let c8191_i32_1116 : BitVec 32 := 8191#32
  let v2663 : BitVec 32 := Scalar.andi v2662 c8191_i32_1116
  let c8_i32_1117 : BitVec 32 := 8#32
  let v2664 : BitVec 32 := Scalar.muli v2663 c8_i32_1117
  v2664

def k0_off1781 (v2661 : BitVec 32) : Fin 2 → Nat :=
  let c3_i32_1115 : BitVec 32 := 3#32
  let v2662 : BitVec 32 := Scalar.shrsi v2661 c3_i32_1115
  let c8191_i32_1116 : BitVec 32 := 8191#32
  let v2663 : BitVec 32 := Scalar.andi v2662 c8191_i32_1116
  let c8_i32_1117 : BitVec 32 := 8#32
  let v2664 : BitVec 32 := Scalar.muli v2663 c8_i32_1117
  let v2665 : BitVec 32 := v2664
  let v2666 : Index := Scalar.indexCast v2665
  let c0_1118 : Index := 0#32
  ![v2666.toNat, 0]
def k0_off1782 (v2661 : BitVec 32) : Fin 2 → Nat :=
  let c3_i32_1115 : BitVec 32 := 3#32
  let v2662 : BitVec 32 := Scalar.shrsi v2661 c3_i32_1115
  let c8191_i32_1116 : BitVec 32 := 8191#32
  let v2663 : BitVec 32 := Scalar.andi v2662 c8191_i32_1116
  let v2671 : Index := Scalar.indexCast v2663
  let c0_1120 : Index := 0#32
  ![v2671.toNat, 0]

def k0_chk671 (i : grid0.Coords) (v48 : BitVec 32) (v2661 : BitVec 32) : Prop :=
  (∀ (k0_h10 : k0_cond10 i v48 = 1#1), 8 ∣ (k0_mult665 v2661).toNat) ∧
  (∀ (k0_h10 : k0_cond10 i v48 = 1#1), ∀ a, (k0_off1781 v2661) a + S8x128.size a ≤ S65536x128.size a) ∧
  (∀ (k0_h10 : k0_cond10 i v48 = 1#1), ∀ a, (k0_off1782 v2661) a + S1x128.size a ≤ S8192x128.size a)
theorem k0_mult665_dvd : ∀ (i : grid0.Coords) (v48 : BitVec 32) (v2661 : BitVec 32) (k0_hw671 : k0_chk671 i v48 v2661), ∀ (k0_h10 : k0_cond10 i v48 = 1#1), 8 ∣ (k0_mult665 v2661).toNat := fun i v48 v2661 k0_hw671 k0_h10 => k0_hw671.1 k0_h10
theorem k0_off1781_inb : ∀ (i : grid0.Coords) (v48 : BitVec 32) (v2661 : BitVec 32) (k0_hw671 : k0_chk671 i v48 v2661), ∀ (k0_h10 : k0_cond10 i v48 = 1#1), ∀ a, (k0_off1781 v2661) a + S8x128.size a ≤ S65536x128.size a := fun i v48 v2661 k0_hw671 k0_h10 => k0_hw671.2.1 k0_h10
theorem k0_off1782_inb : ∀ (i : grid0.Coords) (v48 : BitVec 32) (v2661 : BitVec 32) (k0_hw671 : k0_chk671 i v48 v2661), ∀ (k0_h10 : k0_cond10 i v48 = 1#1), ∀ a, (k0_off1782 v2661) a + S1x128.size a ≤ S8192x128.size a := fun i v48 v2661 k0_hw671 k0_h10 => k0_hw671.2.2 k0_h10

def k0_off1783 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c153_i32 : BitVec 32 := 153#32
  let v2676 : BitVec 32 := Scalar.addi v74 c153_i32
  let v2677 : Index := Scalar.indexCast v2676
  ![v2677.toNat]
def k0_mult666 (v2678 : BitVec 32) : BitVec 32 :=
  let c3_i32_1123 : BitVec 32 := 3#32
  let v2679 : BitVec 32 := Scalar.shrsi v2678 c3_i32_1123
  let c8191_i32_1124 : BitVec 32 := 8191#32
  let v2680 : BitVec 32 := Scalar.andi v2679 c8191_i32_1124
  let c8_i32_1125 : BitVec 32 := 8#32
  let v2681 : BitVec 32 := Scalar.muli v2680 c8_i32_1125
  v2681

def k0_off1784 (v2678 : BitVec 32) : Fin 2 → Nat :=
  let c3_i32_1123 : BitVec 32 := 3#32
  let v2679 : BitVec 32 := Scalar.shrsi v2678 c3_i32_1123
  let c8191_i32_1124 : BitVec 32 := 8191#32
  let v2680 : BitVec 32 := Scalar.andi v2679 c8191_i32_1124
  let c8_i32_1125 : BitVec 32 := 8#32
  let v2681 : BitVec 32 := Scalar.muli v2680 c8_i32_1125
  let v2682 : BitVec 32 := v2681
  let v2683 : Index := Scalar.indexCast v2682
  let c0_1126 : Index := 0#32
  ![v2683.toNat, 0]
def k0_off1785 (v2678 : BitVec 32) : Fin 2 → Nat :=
  let c3_i32_1123 : BitVec 32 := 3#32
  let v2679 : BitVec 32 := Scalar.shrsi v2678 c3_i32_1123
  let c8191_i32_1124 : BitVec 32 := 8191#32
  let v2680 : BitVec 32 := Scalar.andi v2679 c8191_i32_1124
  let v2688 : Index := Scalar.indexCast v2680
  let c0_1128 : Index := 0#32
  ![v2688.toNat, 0]

def k0_chk672 (i : grid0.Coords) (v48 : BitVec 32) (v2678 : BitVec 32) : Prop :=
  (∀ (k0_h10 : k0_cond10 i v48 = 1#1), 8 ∣ (k0_mult666 v2678).toNat) ∧
  (∀ (k0_h10 : k0_cond10 i v48 = 1#1), ∀ a, (k0_off1784 v2678) a + S8x128.size a ≤ S65536x128.size a) ∧
  (∀ (k0_h10 : k0_cond10 i v48 = 1#1), ∀ a, (k0_off1785 v2678) a + S1x128.size a ≤ S8192x128.size a)
theorem k0_mult666_dvd : ∀ (i : grid0.Coords) (v48 : BitVec 32) (v2678 : BitVec 32) (k0_hw672 : k0_chk672 i v48 v2678), ∀ (k0_h10 : k0_cond10 i v48 = 1#1), 8 ∣ (k0_mult666 v2678).toNat := fun i v48 v2678 k0_hw672 k0_h10 => k0_hw672.1 k0_h10
theorem k0_off1784_inb : ∀ (i : grid0.Coords) (v48 : BitVec 32) (v2678 : BitVec 32) (k0_hw672 : k0_chk672 i v48 v2678), ∀ (k0_h10 : k0_cond10 i v48 = 1#1), ∀ a, (k0_off1784 v2678) a + S8x128.size a ≤ S65536x128.size a := fun i v48 v2678 k0_hw672 k0_h10 => k0_hw672.2.1 k0_h10
theorem k0_off1785_inb : ∀ (i : grid0.Coords) (v48 : BitVec 32) (v2678 : BitVec 32) (k0_hw672 : k0_chk672 i v48 v2678), ∀ (k0_h10 : k0_cond10 i v48 = 1#1), ∀ a, (k0_off1785 v2678) a + S1x128.size a ≤ S8192x128.size a := fun i v48 v2678 k0_hw672 k0_h10 => k0_hw672.2.2 k0_h10

def k0_off1786 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c154_i32 : BitVec 32 := 154#32
  let v2693 : BitVec 32 := Scalar.addi v74 c154_i32
  let v2694 : Index := Scalar.indexCast v2693
  ![v2694.toNat]
def k0_mult667 (v2695 : BitVec 32) : BitVec 32 :=
  let c3_i32_1130 : BitVec 32 := 3#32
  let v2696 : BitVec 32 := Scalar.shrsi v2695 c3_i32_1130
  let c8191_i32_1131 : BitVec 32 := 8191#32
  let v2697 : BitVec 32 := Scalar.andi v2696 c8191_i32_1131
  let c8_i32_1132 : BitVec 32 := 8#32
  let v2698 : BitVec 32 := Scalar.muli v2697 c8_i32_1132
  v2698

def k0_off1787 (v2695 : BitVec 32) : Fin 2 → Nat :=
  let c3_i32_1130 : BitVec 32 := 3#32
  let v2696 : BitVec 32 := Scalar.shrsi v2695 c3_i32_1130
  let c8191_i32_1131 : BitVec 32 := 8191#32
  let v2697 : BitVec 32 := Scalar.andi v2696 c8191_i32_1131
  let c8_i32_1132 : BitVec 32 := 8#32
  let v2698 : BitVec 32 := Scalar.muli v2697 c8_i32_1132
  let v2699 : BitVec 32 := v2698
  let v2700 : Index := Scalar.indexCast v2699
  let c0_1133 : Index := 0#32
  ![v2700.toNat, 0]
def k0_off1788 (v2695 : BitVec 32) : Fin 2 → Nat :=
  let c3_i32_1130 : BitVec 32 := 3#32
  let v2696 : BitVec 32 := Scalar.shrsi v2695 c3_i32_1130
  let c8191_i32_1131 : BitVec 32 := 8191#32
  let v2697 : BitVec 32 := Scalar.andi v2696 c8191_i32_1131
  let v2705 : Index := Scalar.indexCast v2697
  let c0_1135 : Index := 0#32
  ![v2705.toNat, 0]

def k0_chk673 (i : grid0.Coords) (v48 : BitVec 32) (v2695 : BitVec 32) : Prop :=
  (∀ (k0_h10 : k0_cond10 i v48 = 1#1), 8 ∣ (k0_mult667 v2695).toNat) ∧
  (∀ (k0_h10 : k0_cond10 i v48 = 1#1), ∀ a, (k0_off1787 v2695) a + S8x128.size a ≤ S65536x128.size a) ∧
  (∀ (k0_h10 : k0_cond10 i v48 = 1#1), ∀ a, (k0_off1788 v2695) a + S1x128.size a ≤ S8192x128.size a)
theorem k0_mult667_dvd : ∀ (i : grid0.Coords) (v48 : BitVec 32) (v2695 : BitVec 32) (k0_hw673 : k0_chk673 i v48 v2695), ∀ (k0_h10 : k0_cond10 i v48 = 1#1), 8 ∣ (k0_mult667 v2695).toNat := fun i v48 v2695 k0_hw673 k0_h10 => k0_hw673.1 k0_h10
theorem k0_off1787_inb : ∀ (i : grid0.Coords) (v48 : BitVec 32) (v2695 : BitVec 32) (k0_hw673 : k0_chk673 i v48 v2695), ∀ (k0_h10 : k0_cond10 i v48 = 1#1), ∀ a, (k0_off1787 v2695) a + S8x128.size a ≤ S65536x128.size a := fun i v48 v2695 k0_hw673 k0_h10 => k0_hw673.2.1 k0_h10
theorem k0_off1788_inb : ∀ (i : grid0.Coords) (v48 : BitVec 32) (v2695 : BitVec 32) (k0_hw673 : k0_chk673 i v48 v2695), ∀ (k0_h10 : k0_cond10 i v48 = 1#1), ∀ a, (k0_off1788 v2695) a + S1x128.size a ≤ S8192x128.size a := fun i v48 v2695 k0_hw673 k0_h10 => k0_hw673.2.2 k0_h10

def k0_off1789 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c155_i32 : BitVec 32 := 155#32
  let v2710 : BitVec 32 := Scalar.addi v74 c155_i32
  let v2711 : Index := Scalar.indexCast v2710
  ![v2711.toNat]
def k0_mult668 (v2712 : BitVec 32) : BitVec 32 :=
  let c3_i32_1137 : BitVec 32 := 3#32
  let v2713 : BitVec 32 := Scalar.shrsi v2712 c3_i32_1137
  let c8191_i32_1138 : BitVec 32 := 8191#32
  let v2714 : BitVec 32 := Scalar.andi v2713 c8191_i32_1138
  let c8_i32_1139 : BitVec 32 := 8#32
  let v2715 : BitVec 32 := Scalar.muli v2714 c8_i32_1139
  v2715

def k0_off1790 (v2712 : BitVec 32) : Fin 2 → Nat :=
  let c3_i32_1137 : BitVec 32 := 3#32
  let v2713 : BitVec 32 := Scalar.shrsi v2712 c3_i32_1137
  let c8191_i32_1138 : BitVec 32 := 8191#32
  let v2714 : BitVec 32 := Scalar.andi v2713 c8191_i32_1138
  let c8_i32_1139 : BitVec 32 := 8#32
  let v2715 : BitVec 32 := Scalar.muli v2714 c8_i32_1139
  let v2716 : BitVec 32 := v2715
  let v2717 : Index := Scalar.indexCast v2716
  let c0_1140 : Index := 0#32
  ![v2717.toNat, 0]
def k0_off1791 (v2712 : BitVec 32) : Fin 2 → Nat :=
  let c3_i32_1137 : BitVec 32 := 3#32
  let v2713 : BitVec 32 := Scalar.shrsi v2712 c3_i32_1137
  let c8191_i32_1138 : BitVec 32 := 8191#32
  let v2714 : BitVec 32 := Scalar.andi v2713 c8191_i32_1138
  let v2722 : Index := Scalar.indexCast v2714
  let c0_1142 : Index := 0#32
  ![v2722.toNat, 0]

def k0_chk674 (i : grid0.Coords) (v48 : BitVec 32) (v2712 : BitVec 32) : Prop :=
  (∀ (k0_h10 : k0_cond10 i v48 = 1#1), 8 ∣ (k0_mult668 v2712).toNat) ∧
  (∀ (k0_h10 : k0_cond10 i v48 = 1#1), ∀ a, (k0_off1790 v2712) a + S8x128.size a ≤ S65536x128.size a) ∧
  (∀ (k0_h10 : k0_cond10 i v48 = 1#1), ∀ a, (k0_off1791 v2712) a + S1x128.size a ≤ S8192x128.size a)
theorem k0_mult668_dvd : ∀ (i : grid0.Coords) (v48 : BitVec 32) (v2712 : BitVec 32) (k0_hw674 : k0_chk674 i v48 v2712), ∀ (k0_h10 : k0_cond10 i v48 = 1#1), 8 ∣ (k0_mult668 v2712).toNat := fun i v48 v2712 k0_hw674 k0_h10 => k0_hw674.1 k0_h10
theorem k0_off1790_inb : ∀ (i : grid0.Coords) (v48 : BitVec 32) (v2712 : BitVec 32) (k0_hw674 : k0_chk674 i v48 v2712), ∀ (k0_h10 : k0_cond10 i v48 = 1#1), ∀ a, (k0_off1790 v2712) a + S8x128.size a ≤ S65536x128.size a := fun i v48 v2712 k0_hw674 k0_h10 => k0_hw674.2.1 k0_h10
theorem k0_off1791_inb : ∀ (i : grid0.Coords) (v48 : BitVec 32) (v2712 : BitVec 32) (k0_hw674 : k0_chk674 i v48 v2712), ∀ (k0_h10 : k0_cond10 i v48 = 1#1), ∀ a, (k0_off1791 v2712) a + S1x128.size a ≤ S8192x128.size a := fun i v48 v2712 k0_hw674 k0_h10 => k0_hw674.2.2 k0_h10

def k0_off1792 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c156_i32 : BitVec 32 := 156#32
  let v2727 : BitVec 32 := Scalar.addi v74 c156_i32
  let v2728 : Index := Scalar.indexCast v2727
  ![v2728.toNat]
def k0_mult669 (v2729 : BitVec 32) : BitVec 32 :=
  let c3_i32_1144 : BitVec 32 := 3#32
  let v2730 : BitVec 32 := Scalar.shrsi v2729 c3_i32_1144
  let c8191_i32_1145 : BitVec 32 := 8191#32
  let v2731 : BitVec 32 := Scalar.andi v2730 c8191_i32_1145
  let c8_i32_1146 : BitVec 32 := 8#32
  let v2732 : BitVec 32 := Scalar.muli v2731 c8_i32_1146
  v2732

def k0_off1793 (v2729 : BitVec 32) : Fin 2 → Nat :=
  let c3_i32_1144 : BitVec 32 := 3#32
  let v2730 : BitVec 32 := Scalar.shrsi v2729 c3_i32_1144
  let c8191_i32_1145 : BitVec 32 := 8191#32
  let v2731 : BitVec 32 := Scalar.andi v2730 c8191_i32_1145
  let c8_i32_1146 : BitVec 32 := 8#32
  let v2732 : BitVec 32 := Scalar.muli v2731 c8_i32_1146
  let v2733 : BitVec 32 := v2732
  let v2734 : Index := Scalar.indexCast v2733
  let c0_1147 : Index := 0#32
  ![v2734.toNat, 0]
def k0_off1794 (v2729 : BitVec 32) : Fin 2 → Nat :=
  let c3_i32_1144 : BitVec 32 := 3#32
  let v2730 : BitVec 32 := Scalar.shrsi v2729 c3_i32_1144
  let c8191_i32_1145 : BitVec 32 := 8191#32
  let v2731 : BitVec 32 := Scalar.andi v2730 c8191_i32_1145
  let v2739 : Index := Scalar.indexCast v2731
  let c0_1149 : Index := 0#32
  ![v2739.toNat, 0]

def k0_chk675 (i : grid0.Coords) (v48 : BitVec 32) (v2729 : BitVec 32) : Prop :=
  (∀ (k0_h10 : k0_cond10 i v48 = 1#1), 8 ∣ (k0_mult669 v2729).toNat) ∧
  (∀ (k0_h10 : k0_cond10 i v48 = 1#1), ∀ a, (k0_off1793 v2729) a + S8x128.size a ≤ S65536x128.size a) ∧
  (∀ (k0_h10 : k0_cond10 i v48 = 1#1), ∀ a, (k0_off1794 v2729) a + S1x128.size a ≤ S8192x128.size a)
theorem k0_mult669_dvd : ∀ (i : grid0.Coords) (v48 : BitVec 32) (v2729 : BitVec 32) (k0_hw675 : k0_chk675 i v48 v2729), ∀ (k0_h10 : k0_cond10 i v48 = 1#1), 8 ∣ (k0_mult669 v2729).toNat := fun i v48 v2729 k0_hw675 k0_h10 => k0_hw675.1 k0_h10
theorem k0_off1793_inb : ∀ (i : grid0.Coords) (v48 : BitVec 32) (v2729 : BitVec 32) (k0_hw675 : k0_chk675 i v48 v2729), ∀ (k0_h10 : k0_cond10 i v48 = 1#1), ∀ a, (k0_off1793 v2729) a + S8x128.size a ≤ S65536x128.size a := fun i v48 v2729 k0_hw675 k0_h10 => k0_hw675.2.1 k0_h10
theorem k0_off1794_inb : ∀ (i : grid0.Coords) (v48 : BitVec 32) (v2729 : BitVec 32) (k0_hw675 : k0_chk675 i v48 v2729), ∀ (k0_h10 : k0_cond10 i v48 = 1#1), ∀ a, (k0_off1794 v2729) a + S1x128.size a ≤ S8192x128.size a := fun i v48 v2729 k0_hw675 k0_h10 => k0_hw675.2.2 k0_h10

def k0_off1795 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c157_i32 : BitVec 32 := 157#32
  let v2744 : BitVec 32 := Scalar.addi v74 c157_i32
  let v2745 : Index := Scalar.indexCast v2744
  ![v2745.toNat]
def k0_mult670 (v2746 : BitVec 32) : BitVec 32 :=
  let c3_i32_1151 : BitVec 32 := 3#32
  let v2747 : BitVec 32 := Scalar.shrsi v2746 c3_i32_1151
  let c8191_i32_1152 : BitVec 32 := 8191#32
  let v2748 : BitVec 32 := Scalar.andi v2747 c8191_i32_1152
  let c8_i32_1153 : BitVec 32 := 8#32
  let v2749 : BitVec 32 := Scalar.muli v2748 c8_i32_1153
  v2749

def k0_off1796 (v2746 : BitVec 32) : Fin 2 → Nat :=
  let c3_i32_1151 : BitVec 32 := 3#32
  let v2747 : BitVec 32 := Scalar.shrsi v2746 c3_i32_1151
  let c8191_i32_1152 : BitVec 32 := 8191#32
  let v2748 : BitVec 32 := Scalar.andi v2747 c8191_i32_1152
  let c8_i32_1153 : BitVec 32 := 8#32
  let v2749 : BitVec 32 := Scalar.muli v2748 c8_i32_1153
  let v2750 : BitVec 32 := v2749
  let v2751 : Index := Scalar.indexCast v2750
  let c0_1154 : Index := 0#32
  ![v2751.toNat, 0]
def k0_off1797 (v2746 : BitVec 32) : Fin 2 → Nat :=
  let c3_i32_1151 : BitVec 32 := 3#32
  let v2747 : BitVec 32 := Scalar.shrsi v2746 c3_i32_1151
  let c8191_i32_1152 : BitVec 32 := 8191#32
  let v2748 : BitVec 32 := Scalar.andi v2747 c8191_i32_1152
  let v2756 : Index := Scalar.indexCast v2748
  let c0_1156 : Index := 0#32
  ![v2756.toNat, 0]

def k0_chk676 (i : grid0.Coords) (v48 : BitVec 32) (v2746 : BitVec 32) : Prop :=
  (∀ (k0_h10 : k0_cond10 i v48 = 1#1), 8 ∣ (k0_mult670 v2746).toNat) ∧
  (∀ (k0_h10 : k0_cond10 i v48 = 1#1), ∀ a, (k0_off1796 v2746) a + S8x128.size a ≤ S65536x128.size a) ∧
  (∀ (k0_h10 : k0_cond10 i v48 = 1#1), ∀ a, (k0_off1797 v2746) a + S1x128.size a ≤ S8192x128.size a)
theorem k0_mult670_dvd : ∀ (i : grid0.Coords) (v48 : BitVec 32) (v2746 : BitVec 32) (k0_hw676 : k0_chk676 i v48 v2746), ∀ (k0_h10 : k0_cond10 i v48 = 1#1), 8 ∣ (k0_mult670 v2746).toNat := fun i v48 v2746 k0_hw676 k0_h10 => k0_hw676.1 k0_h10
theorem k0_off1796_inb : ∀ (i : grid0.Coords) (v48 : BitVec 32) (v2746 : BitVec 32) (k0_hw676 : k0_chk676 i v48 v2746), ∀ (k0_h10 : k0_cond10 i v48 = 1#1), ∀ a, (k0_off1796 v2746) a + S8x128.size a ≤ S65536x128.size a := fun i v48 v2746 k0_hw676 k0_h10 => k0_hw676.2.1 k0_h10
theorem k0_off1797_inb : ∀ (i : grid0.Coords) (v48 : BitVec 32) (v2746 : BitVec 32) (k0_hw676 : k0_chk676 i v48 v2746), ∀ (k0_h10 : k0_cond10 i v48 = 1#1), ∀ a, (k0_off1797 v2746) a + S1x128.size a ≤ S8192x128.size a := fun i v48 v2746 k0_hw676 k0_h10 => k0_hw676.2.2 k0_h10

def k0_off1798 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c158_i32 : BitVec 32 := 158#32
  let v2761 : BitVec 32 := Scalar.addi v74 c158_i32
  let v2762 : Index := Scalar.indexCast v2761
  ![v2762.toNat]
def k0_mult671 (v2763 : BitVec 32) : BitVec 32 :=
  let c3_i32_1158 : BitVec 32 := 3#32
  let v2764 : BitVec 32 := Scalar.shrsi v2763 c3_i32_1158
  let c8191_i32_1159 : BitVec 32 := 8191#32
  let v2765 : BitVec 32 := Scalar.andi v2764 c8191_i32_1159
  let c8_i32_1160 : BitVec 32 := 8#32
  let v2766 : BitVec 32 := Scalar.muli v2765 c8_i32_1160
  v2766

def k0_off1799 (v2763 : BitVec 32) : Fin 2 → Nat :=
  let c3_i32_1158 : BitVec 32 := 3#32
  let v2764 : BitVec 32 := Scalar.shrsi v2763 c3_i32_1158
  let c8191_i32_1159 : BitVec 32 := 8191#32
  let v2765 : BitVec 32 := Scalar.andi v2764 c8191_i32_1159
  let c8_i32_1160 : BitVec 32 := 8#32
  let v2766 : BitVec 32 := Scalar.muli v2765 c8_i32_1160
  let v2767 : BitVec 32 := v2766
  let v2768 : Index := Scalar.indexCast v2767
  let c0_1161 : Index := 0#32
  ![v2768.toNat, 0]
def k0_off1800 (v2763 : BitVec 32) : Fin 2 → Nat :=
  let c3_i32_1158 : BitVec 32 := 3#32
  let v2764 : BitVec 32 := Scalar.shrsi v2763 c3_i32_1158
  let c8191_i32_1159 : BitVec 32 := 8191#32
  let v2765 : BitVec 32 := Scalar.andi v2764 c8191_i32_1159
  let v2773 : Index := Scalar.indexCast v2765
  let c0_1163 : Index := 0#32
  ![v2773.toNat, 0]

def k0_chk677 (i : grid0.Coords) (v48 : BitVec 32) (v2763 : BitVec 32) : Prop :=
  (∀ (k0_h10 : k0_cond10 i v48 = 1#1), 8 ∣ (k0_mult671 v2763).toNat) ∧
  (∀ (k0_h10 : k0_cond10 i v48 = 1#1), ∀ a, (k0_off1799 v2763) a + S8x128.size a ≤ S65536x128.size a) ∧
  (∀ (k0_h10 : k0_cond10 i v48 = 1#1), ∀ a, (k0_off1800 v2763) a + S1x128.size a ≤ S8192x128.size a)
theorem k0_mult671_dvd : ∀ (i : grid0.Coords) (v48 : BitVec 32) (v2763 : BitVec 32) (k0_hw677 : k0_chk677 i v48 v2763), ∀ (k0_h10 : k0_cond10 i v48 = 1#1), 8 ∣ (k0_mult671 v2763).toNat := fun i v48 v2763 k0_hw677 k0_h10 => k0_hw677.1 k0_h10
theorem k0_off1799_inb : ∀ (i : grid0.Coords) (v48 : BitVec 32) (v2763 : BitVec 32) (k0_hw677 : k0_chk677 i v48 v2763), ∀ (k0_h10 : k0_cond10 i v48 = 1#1), ∀ a, (k0_off1799 v2763) a + S8x128.size a ≤ S65536x128.size a := fun i v48 v2763 k0_hw677 k0_h10 => k0_hw677.2.1 k0_h10
theorem k0_off1800_inb : ∀ (i : grid0.Coords) (v48 : BitVec 32) (v2763 : BitVec 32) (k0_hw677 : k0_chk677 i v48 v2763), ∀ (k0_h10 : k0_cond10 i v48 = 1#1), ∀ a, (k0_off1800 v2763) a + S1x128.size a ≤ S8192x128.size a := fun i v48 v2763 k0_hw677 k0_h10 => k0_hw677.2.2 k0_h10

def k0_off1801 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c159_i32 : BitVec 32 := 159#32
  let v2778 : BitVec 32 := Scalar.addi v74 c159_i32
  let v2779 : Index := Scalar.indexCast v2778
  ![v2779.toNat]
def k0_mult672 (v2780 : BitVec 32) : BitVec 32 :=
  let c3_i32_1165 : BitVec 32 := 3#32
  let v2781 : BitVec 32 := Scalar.shrsi v2780 c3_i32_1165
  let c8191_i32_1166 : BitVec 32 := 8191#32
  let v2782 : BitVec 32 := Scalar.andi v2781 c8191_i32_1166
  let c8_i32_1167 : BitVec 32 := 8#32
  let v2783 : BitVec 32 := Scalar.muli v2782 c8_i32_1167
  v2783

def k0_off1802 (v2780 : BitVec 32) : Fin 2 → Nat :=
  let c3_i32_1165 : BitVec 32 := 3#32
  let v2781 : BitVec 32 := Scalar.shrsi v2780 c3_i32_1165
  let c8191_i32_1166 : BitVec 32 := 8191#32
  let v2782 : BitVec 32 := Scalar.andi v2781 c8191_i32_1166
  let c8_i32_1167 : BitVec 32 := 8#32
  let v2783 : BitVec 32 := Scalar.muli v2782 c8_i32_1167
  let v2784 : BitVec 32 := v2783
  let v2785 : Index := Scalar.indexCast v2784
  let c0_1168 : Index := 0#32
  ![v2785.toNat, 0]
def k0_off1803 (v2780 : BitVec 32) : Fin 2 → Nat :=
  let c3_i32_1165 : BitVec 32 := 3#32
  let v2781 : BitVec 32 := Scalar.shrsi v2780 c3_i32_1165
  let c8191_i32_1166 : BitVec 32 := 8191#32
  let v2782 : BitVec 32 := Scalar.andi v2781 c8191_i32_1166
  let v2790 : Index := Scalar.indexCast v2782
  let c0_1170 : Index := 0#32
  ![v2790.toNat, 0]

def k0_chk678 (i : grid0.Coords) (v48 : BitVec 32) (v2780 : BitVec 32) : Prop :=
  (∀ (k0_h10 : k0_cond10 i v48 = 1#1), 8 ∣ (k0_mult672 v2780).toNat) ∧
  (∀ (k0_h10 : k0_cond10 i v48 = 1#1), ∀ a, (k0_off1802 v2780) a + S8x128.size a ≤ S65536x128.size a) ∧
  (∀ (k0_h10 : k0_cond10 i v48 = 1#1), ∀ a, (k0_off1803 v2780) a + S1x128.size a ≤ S8192x128.size a)
theorem k0_mult672_dvd : ∀ (i : grid0.Coords) (v48 : BitVec 32) (v2780 : BitVec 32) (k0_hw678 : k0_chk678 i v48 v2780), ∀ (k0_h10 : k0_cond10 i v48 = 1#1), 8 ∣ (k0_mult672 v2780).toNat := fun i v48 v2780 k0_hw678 k0_h10 => k0_hw678.1 k0_h10
theorem k0_off1802_inb : ∀ (i : grid0.Coords) (v48 : BitVec 32) (v2780 : BitVec 32) (k0_hw678 : k0_chk678 i v48 v2780), ∀ (k0_h10 : k0_cond10 i v48 = 1#1), ∀ a, (k0_off1802 v2780) a + S8x128.size a ≤ S65536x128.size a := fun i v48 v2780 k0_hw678 k0_h10 => k0_hw678.2.1 k0_h10
theorem k0_off1803_inb : ∀ (i : grid0.Coords) (v48 : BitVec 32) (v2780 : BitVec 32) (k0_hw678 : k0_chk678 i v48 v2780), ∀ (k0_h10 : k0_cond10 i v48 = 1#1), ∀ a, (k0_off1803 v2780) a + S1x128.size a ≤ S8192x128.size a := fun i v48 v2780 k0_hw678 k0_h10 => k0_hw678.2.2 k0_h10

def k0_off1804 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c160_i32 : BitVec 32 := 160#32
  let v2795 : BitVec 32 := Scalar.addi v74 c160_i32
  let v2796 : Index := Scalar.indexCast v2795
  ![v2796.toNat]
def k0_mult673 (v2797 : BitVec 32) : BitVec 32 :=
  let c3_i32_1172 : BitVec 32 := 3#32
  let v2798 : BitVec 32 := Scalar.shrsi v2797 c3_i32_1172
  let c8191_i32_1173 : BitVec 32 := 8191#32
  let v2799 : BitVec 32 := Scalar.andi v2798 c8191_i32_1173
  let c8_i32_1174 : BitVec 32 := 8#32
  let v2800 : BitVec 32 := Scalar.muli v2799 c8_i32_1174
  v2800

def k0_off1805 (v2797 : BitVec 32) : Fin 2 → Nat :=
  let c3_i32_1172 : BitVec 32 := 3#32
  let v2798 : BitVec 32 := Scalar.shrsi v2797 c3_i32_1172
  let c8191_i32_1173 : BitVec 32 := 8191#32
  let v2799 : BitVec 32 := Scalar.andi v2798 c8191_i32_1173
  let c8_i32_1174 : BitVec 32 := 8#32
  let v2800 : BitVec 32 := Scalar.muli v2799 c8_i32_1174
  let v2801 : BitVec 32 := v2800
  let v2802 : Index := Scalar.indexCast v2801
  let c0_1175 : Index := 0#32
  ![v2802.toNat, 0]
def k0_off1806 (v2797 : BitVec 32) : Fin 2 → Nat :=
  let c3_i32_1172 : BitVec 32 := 3#32
  let v2798 : BitVec 32 := Scalar.shrsi v2797 c3_i32_1172
  let c8191_i32_1173 : BitVec 32 := 8191#32
  let v2799 : BitVec 32 := Scalar.andi v2798 c8191_i32_1173
  let v2807 : Index := Scalar.indexCast v2799
  let c0_1177 : Index := 0#32
  ![v2807.toNat, 0]

def k0_chk679 (i : grid0.Coords) (v48 : BitVec 32) (v2797 : BitVec 32) : Prop :=
  (∀ (k0_h10 : k0_cond10 i v48 = 1#1), 8 ∣ (k0_mult673 v2797).toNat) ∧
  (∀ (k0_h10 : k0_cond10 i v48 = 1#1), ∀ a, (k0_off1805 v2797) a + S8x128.size a ≤ S65536x128.size a) ∧
  (∀ (k0_h10 : k0_cond10 i v48 = 1#1), ∀ a, (k0_off1806 v2797) a + S1x128.size a ≤ S8192x128.size a)
theorem k0_mult673_dvd : ∀ (i : grid0.Coords) (v48 : BitVec 32) (v2797 : BitVec 32) (k0_hw679 : k0_chk679 i v48 v2797), ∀ (k0_h10 : k0_cond10 i v48 = 1#1), 8 ∣ (k0_mult673 v2797).toNat := fun i v48 v2797 k0_hw679 k0_h10 => k0_hw679.1 k0_h10
theorem k0_off1805_inb : ∀ (i : grid0.Coords) (v48 : BitVec 32) (v2797 : BitVec 32) (k0_hw679 : k0_chk679 i v48 v2797), ∀ (k0_h10 : k0_cond10 i v48 = 1#1), ∀ a, (k0_off1805 v2797) a + S8x128.size a ≤ S65536x128.size a := fun i v48 v2797 k0_hw679 k0_h10 => k0_hw679.2.1 k0_h10
theorem k0_off1806_inb : ∀ (i : grid0.Coords) (v48 : BitVec 32) (v2797 : BitVec 32) (k0_hw679 : k0_chk679 i v48 v2797), ∀ (k0_h10 : k0_cond10 i v48 = 1#1), ∀ a, (k0_off1806 v2797) a + S1x128.size a ≤ S8192x128.size a := fun i v48 v2797 k0_hw679 k0_h10 => k0_hw679.2.2 k0_h10

def k0_off1807 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c161_i32 : BitVec 32 := 161#32
  let v2812 : BitVec 32 := Scalar.addi v74 c161_i32
  let v2813 : Index := Scalar.indexCast v2812
  ![v2813.toNat]
def k0_mult674 (v2814 : BitVec 32) : BitVec 32 :=
  let c3_i32_1180 : BitVec 32 := 3#32
  let v2815 : BitVec 32 := Scalar.shrsi v2814 c3_i32_1180
  let c8191_i32_1181 : BitVec 32 := 8191#32
  let v2816 : BitVec 32 := Scalar.andi v2815 c8191_i32_1181
  let c8_i32_1182 : BitVec 32 := 8#32
  let v2817 : BitVec 32 := Scalar.muli v2816 c8_i32_1182
  v2817

def k0_off1808 (v2814 : BitVec 32) : Fin 2 → Nat :=
  let c3_i32_1180 : BitVec 32 := 3#32
  let v2815 : BitVec 32 := Scalar.shrsi v2814 c3_i32_1180
  let c8191_i32_1181 : BitVec 32 := 8191#32
  let v2816 : BitVec 32 := Scalar.andi v2815 c8191_i32_1181
  let c8_i32_1182 : BitVec 32 := 8#32
  let v2817 : BitVec 32 := Scalar.muli v2816 c8_i32_1182
  let v2818 : BitVec 32 := v2817
  let v2819 : Index := Scalar.indexCast v2818
  let c0_1183 : Index := 0#32
  ![v2819.toNat, 0]
def k0_off1809 (v2814 : BitVec 32) : Fin 2 → Nat :=
  let c3_i32_1180 : BitVec 32 := 3#32
  let v2815 : BitVec 32 := Scalar.shrsi v2814 c3_i32_1180
  let c8191_i32_1181 : BitVec 32 := 8191#32
  let v2816 : BitVec 32 := Scalar.andi v2815 c8191_i32_1181
  let v2824 : Index := Scalar.indexCast v2816
  let c0_1185 : Index := 0#32
  ![v2824.toNat, 0]

def k0_chk680 (i : grid0.Coords) (v48 : BitVec 32) (v2814 : BitVec 32) : Prop :=
  (∀ (k0_h10 : k0_cond10 i v48 = 1#1), 8 ∣ (k0_mult674 v2814).toNat) ∧
  (∀ (k0_h10 : k0_cond10 i v48 = 1#1), ∀ a, (k0_off1808 v2814) a + S8x128.size a ≤ S65536x128.size a) ∧
  (∀ (k0_h10 : k0_cond10 i v48 = 1#1), ∀ a, (k0_off1809 v2814) a + S1x128.size a ≤ S8192x128.size a)
theorem k0_mult674_dvd : ∀ (i : grid0.Coords) (v48 : BitVec 32) (v2814 : BitVec 32) (k0_hw680 : k0_chk680 i v48 v2814), ∀ (k0_h10 : k0_cond10 i v48 = 1#1), 8 ∣ (k0_mult674 v2814).toNat := fun i v48 v2814 k0_hw680 k0_h10 => k0_hw680.1 k0_h10
theorem k0_off1808_inb : ∀ (i : grid0.Coords) (v48 : BitVec 32) (v2814 : BitVec 32) (k0_hw680 : k0_chk680 i v48 v2814), ∀ (k0_h10 : k0_cond10 i v48 = 1#1), ∀ a, (k0_off1808 v2814) a + S8x128.size a ≤ S65536x128.size a := fun i v48 v2814 k0_hw680 k0_h10 => k0_hw680.2.1 k0_h10
theorem k0_off1809_inb : ∀ (i : grid0.Coords) (v48 : BitVec 32) (v2814 : BitVec 32) (k0_hw680 : k0_chk680 i v48 v2814), ∀ (k0_h10 : k0_cond10 i v48 = 1#1), ∀ a, (k0_off1809 v2814) a + S1x128.size a ≤ S8192x128.size a := fun i v48 v2814 k0_hw680 k0_h10 => k0_hw680.2.2 k0_h10

def k0_off1810 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c162_i32 : BitVec 32 := 162#32
  let v2829 : BitVec 32 := Scalar.addi v74 c162_i32
  let v2830 : Index := Scalar.indexCast v2829
  ![v2830.toNat]
def k0_mult675 (v2831 : BitVec 32) : BitVec 32 :=
  let c3_i32_1187 : BitVec 32 := 3#32
  let v2832 : BitVec 32 := Scalar.shrsi v2831 c3_i32_1187
  let c8191_i32_1188 : BitVec 32 := 8191#32
  let v2833 : BitVec 32 := Scalar.andi v2832 c8191_i32_1188
  let c8_i32_1189 : BitVec 32 := 8#32
  let v2834 : BitVec 32 := Scalar.muli v2833 c8_i32_1189
  v2834

def k0_off1811 (v2831 : BitVec 32) : Fin 2 → Nat :=
  let c3_i32_1187 : BitVec 32 := 3#32
  let v2832 : BitVec 32 := Scalar.shrsi v2831 c3_i32_1187
  let c8191_i32_1188 : BitVec 32 := 8191#32
  let v2833 : BitVec 32 := Scalar.andi v2832 c8191_i32_1188
  let c8_i32_1189 : BitVec 32 := 8#32
  let v2834 : BitVec 32 := Scalar.muli v2833 c8_i32_1189
  let v2835 : BitVec 32 := v2834
  let v2836 : Index := Scalar.indexCast v2835
  let c0_1190 : Index := 0#32
  ![v2836.toNat, 0]
def k0_off1812 (v2831 : BitVec 32) : Fin 2 → Nat :=
  let c3_i32_1187 : BitVec 32 := 3#32
  let v2832 : BitVec 32 := Scalar.shrsi v2831 c3_i32_1187
  let c8191_i32_1188 : BitVec 32 := 8191#32
  let v2833 : BitVec 32 := Scalar.andi v2832 c8191_i32_1188
  let v2841 : Index := Scalar.indexCast v2833
  let c0_1192 : Index := 0#32
  ![v2841.toNat, 0]

def k0_chk681 (i : grid0.Coords) (v48 : BitVec 32) (v2831 : BitVec 32) : Prop :=
  (∀ (k0_h10 : k0_cond10 i v48 = 1#1), 8 ∣ (k0_mult675 v2831).toNat) ∧
  (∀ (k0_h10 : k0_cond10 i v48 = 1#1), ∀ a, (k0_off1811 v2831) a + S8x128.size a ≤ S65536x128.size a) ∧
  (∀ (k0_h10 : k0_cond10 i v48 = 1#1), ∀ a, (k0_off1812 v2831) a + S1x128.size a ≤ S8192x128.size a)
theorem k0_mult675_dvd : ∀ (i : grid0.Coords) (v48 : BitVec 32) (v2831 : BitVec 32) (k0_hw681 : k0_chk681 i v48 v2831), ∀ (k0_h10 : k0_cond10 i v48 = 1#1), 8 ∣ (k0_mult675 v2831).toNat := fun i v48 v2831 k0_hw681 k0_h10 => k0_hw681.1 k0_h10
theorem k0_off1811_inb : ∀ (i : grid0.Coords) (v48 : BitVec 32) (v2831 : BitVec 32) (k0_hw681 : k0_chk681 i v48 v2831), ∀ (k0_h10 : k0_cond10 i v48 = 1#1), ∀ a, (k0_off1811 v2831) a + S8x128.size a ≤ S65536x128.size a := fun i v48 v2831 k0_hw681 k0_h10 => k0_hw681.2.1 k0_h10
theorem k0_off1812_inb : ∀ (i : grid0.Coords) (v48 : BitVec 32) (v2831 : BitVec 32) (k0_hw681 : k0_chk681 i v48 v2831), ∀ (k0_h10 : k0_cond10 i v48 = 1#1), ∀ a, (k0_off1812 v2831) a + S1x128.size a ≤ S8192x128.size a := fun i v48 v2831 k0_hw681 k0_h10 => k0_hw681.2.2 k0_h10

def k0_off1813 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c163_i32 : BitVec 32 := 163#32
  let v2846 : BitVec 32 := Scalar.addi v74 c163_i32
  let v2847 : Index := Scalar.indexCast v2846
  ![v2847.toNat]
def k0_mult676 (v2848 : BitVec 32) : BitVec 32 :=
  let c3_i32_1194 : BitVec 32 := 3#32
  let v2849 : BitVec 32 := Scalar.shrsi v2848 c3_i32_1194
  let c8191_i32_1195 : BitVec 32 := 8191#32
  let v2850 : BitVec 32 := Scalar.andi v2849 c8191_i32_1195
  let c8_i32_1196 : BitVec 32 := 8#32
  let v2851 : BitVec 32 := Scalar.muli v2850 c8_i32_1196
  v2851

def k0_off1814 (v2848 : BitVec 32) : Fin 2 → Nat :=
  let c3_i32_1194 : BitVec 32 := 3#32
  let v2849 : BitVec 32 := Scalar.shrsi v2848 c3_i32_1194
  let c8191_i32_1195 : BitVec 32 := 8191#32
  let v2850 : BitVec 32 := Scalar.andi v2849 c8191_i32_1195
  let c8_i32_1196 : BitVec 32 := 8#32
  let v2851 : BitVec 32 := Scalar.muli v2850 c8_i32_1196
  let v2852 : BitVec 32 := v2851
  let v2853 : Index := Scalar.indexCast v2852
  let c0_1197 : Index := 0#32
  ![v2853.toNat, 0]
def k0_off1815 (v2848 : BitVec 32) : Fin 2 → Nat :=
  let c3_i32_1194 : BitVec 32 := 3#32
  let v2849 : BitVec 32 := Scalar.shrsi v2848 c3_i32_1194
  let c8191_i32_1195 : BitVec 32 := 8191#32
  let v2850 : BitVec 32 := Scalar.andi v2849 c8191_i32_1195
  let v2858 : Index := Scalar.indexCast v2850
  let c0_1199 : Index := 0#32
  ![v2858.toNat, 0]

def k0_chk682 (i : grid0.Coords) (v48 : BitVec 32) (v2848 : BitVec 32) : Prop :=
  (∀ (k0_h10 : k0_cond10 i v48 = 1#1), 8 ∣ (k0_mult676 v2848).toNat) ∧
  (∀ (k0_h10 : k0_cond10 i v48 = 1#1), ∀ a, (k0_off1814 v2848) a + S8x128.size a ≤ S65536x128.size a) ∧
  (∀ (k0_h10 : k0_cond10 i v48 = 1#1), ∀ a, (k0_off1815 v2848) a + S1x128.size a ≤ S8192x128.size a)
theorem k0_mult676_dvd : ∀ (i : grid0.Coords) (v48 : BitVec 32) (v2848 : BitVec 32) (k0_hw682 : k0_chk682 i v48 v2848), ∀ (k0_h10 : k0_cond10 i v48 = 1#1), 8 ∣ (k0_mult676 v2848).toNat := fun i v48 v2848 k0_hw682 k0_h10 => k0_hw682.1 k0_h10
theorem k0_off1814_inb : ∀ (i : grid0.Coords) (v48 : BitVec 32) (v2848 : BitVec 32) (k0_hw682 : k0_chk682 i v48 v2848), ∀ (k0_h10 : k0_cond10 i v48 = 1#1), ∀ a, (k0_off1814 v2848) a + S8x128.size a ≤ S65536x128.size a := fun i v48 v2848 k0_hw682 k0_h10 => k0_hw682.2.1 k0_h10
theorem k0_off1815_inb : ∀ (i : grid0.Coords) (v48 : BitVec 32) (v2848 : BitVec 32) (k0_hw682 : k0_chk682 i v48 v2848), ∀ (k0_h10 : k0_cond10 i v48 = 1#1), ∀ a, (k0_off1815 v2848) a + S1x128.size a ≤ S8192x128.size a := fun i v48 v2848 k0_hw682 k0_h10 => k0_hw682.2.2 k0_h10

def k0_off1816 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c164_i32 : BitVec 32 := 164#32
  let v2863 : BitVec 32 := Scalar.addi v74 c164_i32
  let v2864 : Index := Scalar.indexCast v2863
  ![v2864.toNat]
def k0_mult677 (v2865 : BitVec 32) : BitVec 32 :=
  let c3_i32_1201 : BitVec 32 := 3#32
  let v2866 : BitVec 32 := Scalar.shrsi v2865 c3_i32_1201
  let c8191_i32_1202 : BitVec 32 := 8191#32
  let v2867 : BitVec 32 := Scalar.andi v2866 c8191_i32_1202
  let c8_i32_1203 : BitVec 32 := 8#32
  let v2868 : BitVec 32 := Scalar.muli v2867 c8_i32_1203
  v2868

def k0_off1817 (v2865 : BitVec 32) : Fin 2 → Nat :=
  let c3_i32_1201 : BitVec 32 := 3#32
  let v2866 : BitVec 32 := Scalar.shrsi v2865 c3_i32_1201
  let c8191_i32_1202 : BitVec 32 := 8191#32
  let v2867 : BitVec 32 := Scalar.andi v2866 c8191_i32_1202
  let c8_i32_1203 : BitVec 32 := 8#32
  let v2868 : BitVec 32 := Scalar.muli v2867 c8_i32_1203
  let v2869 : BitVec 32 := v2868
  let v2870 : Index := Scalar.indexCast v2869
  let c0_1204 : Index := 0#32
  ![v2870.toNat, 0]
def k0_off1818 (v2865 : BitVec 32) : Fin 2 → Nat :=
  let c3_i32_1201 : BitVec 32 := 3#32
  let v2866 : BitVec 32 := Scalar.shrsi v2865 c3_i32_1201
  let c8191_i32_1202 : BitVec 32 := 8191#32
  let v2867 : BitVec 32 := Scalar.andi v2866 c8191_i32_1202
  let v2875 : Index := Scalar.indexCast v2867
  let c0_1206 : Index := 0#32
  ![v2875.toNat, 0]

def k0_chk683 (i : grid0.Coords) (v48 : BitVec 32) (v2865 : BitVec 32) : Prop :=
  (∀ (k0_h10 : k0_cond10 i v48 = 1#1), 8 ∣ (k0_mult677 v2865).toNat) ∧
  (∀ (k0_h10 : k0_cond10 i v48 = 1#1), ∀ a, (k0_off1817 v2865) a + S8x128.size a ≤ S65536x128.size a) ∧
  (∀ (k0_h10 : k0_cond10 i v48 = 1#1), ∀ a, (k0_off1818 v2865) a + S1x128.size a ≤ S8192x128.size a)
theorem k0_mult677_dvd : ∀ (i : grid0.Coords) (v48 : BitVec 32) (v2865 : BitVec 32) (k0_hw683 : k0_chk683 i v48 v2865), ∀ (k0_h10 : k0_cond10 i v48 = 1#1), 8 ∣ (k0_mult677 v2865).toNat := fun i v48 v2865 k0_hw683 k0_h10 => k0_hw683.1 k0_h10
theorem k0_off1817_inb : ∀ (i : grid0.Coords) (v48 : BitVec 32) (v2865 : BitVec 32) (k0_hw683 : k0_chk683 i v48 v2865), ∀ (k0_h10 : k0_cond10 i v48 = 1#1), ∀ a, (k0_off1817 v2865) a + S8x128.size a ≤ S65536x128.size a := fun i v48 v2865 k0_hw683 k0_h10 => k0_hw683.2.1 k0_h10
theorem k0_off1818_inb : ∀ (i : grid0.Coords) (v48 : BitVec 32) (v2865 : BitVec 32) (k0_hw683 : k0_chk683 i v48 v2865), ∀ (k0_h10 : k0_cond10 i v48 = 1#1), ∀ a, (k0_off1818 v2865) a + S1x128.size a ≤ S8192x128.size a := fun i v48 v2865 k0_hw683 k0_h10 => k0_hw683.2.2 k0_h10

def k0_off1819 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c165_i32 : BitVec 32 := 165#32
  let v2880 : BitVec 32 := Scalar.addi v74 c165_i32
  let v2881 : Index := Scalar.indexCast v2880
  ![v2881.toNat]
def k0_mult678 (v2882 : BitVec 32) : BitVec 32 :=
  let c3_i32_1208 : BitVec 32 := 3#32
  let v2883 : BitVec 32 := Scalar.shrsi v2882 c3_i32_1208
  let c8191_i32_1209 : BitVec 32 := 8191#32
  let v2884 : BitVec 32 := Scalar.andi v2883 c8191_i32_1209
  let c8_i32_1210 : BitVec 32 := 8#32
  let v2885 : BitVec 32 := Scalar.muli v2884 c8_i32_1210
  v2885

def k0_off1820 (v2882 : BitVec 32) : Fin 2 → Nat :=
  let c3_i32_1208 : BitVec 32 := 3#32
  let v2883 : BitVec 32 := Scalar.shrsi v2882 c3_i32_1208
  let c8191_i32_1209 : BitVec 32 := 8191#32
  let v2884 : BitVec 32 := Scalar.andi v2883 c8191_i32_1209
  let c8_i32_1210 : BitVec 32 := 8#32
  let v2885 : BitVec 32 := Scalar.muli v2884 c8_i32_1210
  let v2886 : BitVec 32 := v2885
  let v2887 : Index := Scalar.indexCast v2886
  let c0_1211 : Index := 0#32
  ![v2887.toNat, 0]
def k0_off1821 (v2882 : BitVec 32) : Fin 2 → Nat :=
  let c3_i32_1208 : BitVec 32 := 3#32
  let v2883 : BitVec 32 := Scalar.shrsi v2882 c3_i32_1208
  let c8191_i32_1209 : BitVec 32 := 8191#32
  let v2884 : BitVec 32 := Scalar.andi v2883 c8191_i32_1209
  let v2892 : Index := Scalar.indexCast v2884
  let c0_1213 : Index := 0#32
  ![v2892.toNat, 0]

def k0_chk684 (i : grid0.Coords) (v48 : BitVec 32) (v2882 : BitVec 32) : Prop :=
  (∀ (k0_h10 : k0_cond10 i v48 = 1#1), 8 ∣ (k0_mult678 v2882).toNat) ∧
  (∀ (k0_h10 : k0_cond10 i v48 = 1#1), ∀ a, (k0_off1820 v2882) a + S8x128.size a ≤ S65536x128.size a) ∧
  (∀ (k0_h10 : k0_cond10 i v48 = 1#1), ∀ a, (k0_off1821 v2882) a + S1x128.size a ≤ S8192x128.size a)
theorem k0_mult678_dvd : ∀ (i : grid0.Coords) (v48 : BitVec 32) (v2882 : BitVec 32) (k0_hw684 : k0_chk684 i v48 v2882), ∀ (k0_h10 : k0_cond10 i v48 = 1#1), 8 ∣ (k0_mult678 v2882).toNat := fun i v48 v2882 k0_hw684 k0_h10 => k0_hw684.1 k0_h10
theorem k0_off1820_inb : ∀ (i : grid0.Coords) (v48 : BitVec 32) (v2882 : BitVec 32) (k0_hw684 : k0_chk684 i v48 v2882), ∀ (k0_h10 : k0_cond10 i v48 = 1#1), ∀ a, (k0_off1820 v2882) a + S8x128.size a ≤ S65536x128.size a := fun i v48 v2882 k0_hw684 k0_h10 => k0_hw684.2.1 k0_h10
theorem k0_off1821_inb : ∀ (i : grid0.Coords) (v48 : BitVec 32) (v2882 : BitVec 32) (k0_hw684 : k0_chk684 i v48 v2882), ∀ (k0_h10 : k0_cond10 i v48 = 1#1), ∀ a, (k0_off1821 v2882) a + S1x128.size a ≤ S8192x128.size a := fun i v48 v2882 k0_hw684 k0_h10 => k0_hw684.2.2 k0_h10

def k0_off1822 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c166_i32 : BitVec 32 := 166#32
  let v2897 : BitVec 32 := Scalar.addi v74 c166_i32
  let v2898 : Index := Scalar.indexCast v2897
  ![v2898.toNat]
def k0_mult679 (v2899 : BitVec 32) : BitVec 32 :=
  let c3_i32_1215 : BitVec 32 := 3#32
  let v2900 : BitVec 32 := Scalar.shrsi v2899 c3_i32_1215
  let c8191_i32_1216 : BitVec 32 := 8191#32
  let v2901 : BitVec 32 := Scalar.andi v2900 c8191_i32_1216
  let c8_i32_1217 : BitVec 32 := 8#32
  let v2902 : BitVec 32 := Scalar.muli v2901 c8_i32_1217
  v2902

def k0_off1823 (v2899 : BitVec 32) : Fin 2 → Nat :=
  let c3_i32_1215 : BitVec 32 := 3#32
  let v2900 : BitVec 32 := Scalar.shrsi v2899 c3_i32_1215
  let c8191_i32_1216 : BitVec 32 := 8191#32
  let v2901 : BitVec 32 := Scalar.andi v2900 c8191_i32_1216
  let c8_i32_1217 : BitVec 32 := 8#32
  let v2902 : BitVec 32 := Scalar.muli v2901 c8_i32_1217
  let v2903 : BitVec 32 := v2902
  let v2904 : Index := Scalar.indexCast v2903
  let c0_1218 : Index := 0#32
  ![v2904.toNat, 0]
def k0_off1824 (v2899 : BitVec 32) : Fin 2 → Nat :=
  let c3_i32_1215 : BitVec 32 := 3#32
  let v2900 : BitVec 32 := Scalar.shrsi v2899 c3_i32_1215
  let c8191_i32_1216 : BitVec 32 := 8191#32
  let v2901 : BitVec 32 := Scalar.andi v2900 c8191_i32_1216
  let v2909 : Index := Scalar.indexCast v2901
  let c0_1220 : Index := 0#32
  ![v2909.toNat, 0]

def k0_chk685 (i : grid0.Coords) (v48 : BitVec 32) (v2899 : BitVec 32) : Prop :=
  (∀ (k0_h10 : k0_cond10 i v48 = 1#1), 8 ∣ (k0_mult679 v2899).toNat) ∧
  (∀ (k0_h10 : k0_cond10 i v48 = 1#1), ∀ a, (k0_off1823 v2899) a + S8x128.size a ≤ S65536x128.size a) ∧
  (∀ (k0_h10 : k0_cond10 i v48 = 1#1), ∀ a, (k0_off1824 v2899) a + S1x128.size a ≤ S8192x128.size a)
theorem k0_mult679_dvd : ∀ (i : grid0.Coords) (v48 : BitVec 32) (v2899 : BitVec 32) (k0_hw685 : k0_chk685 i v48 v2899), ∀ (k0_h10 : k0_cond10 i v48 = 1#1), 8 ∣ (k0_mult679 v2899).toNat := fun i v48 v2899 k0_hw685 k0_h10 => k0_hw685.1 k0_h10
theorem k0_off1823_inb : ∀ (i : grid0.Coords) (v48 : BitVec 32) (v2899 : BitVec 32) (k0_hw685 : k0_chk685 i v48 v2899), ∀ (k0_h10 : k0_cond10 i v48 = 1#1), ∀ a, (k0_off1823 v2899) a + S8x128.size a ≤ S65536x128.size a := fun i v48 v2899 k0_hw685 k0_h10 => k0_hw685.2.1 k0_h10
theorem k0_off1824_inb : ∀ (i : grid0.Coords) (v48 : BitVec 32) (v2899 : BitVec 32) (k0_hw685 : k0_chk685 i v48 v2899), ∀ (k0_h10 : k0_cond10 i v48 = 1#1), ∀ a, (k0_off1824 v2899) a + S1x128.size a ≤ S8192x128.size a := fun i v48 v2899 k0_hw685 k0_h10 => k0_hw685.2.2 k0_h10

def k0_off1825 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c167_i32 : BitVec 32 := 167#32
  let v2914 : BitVec 32 := Scalar.addi v74 c167_i32
  let v2915 : Index := Scalar.indexCast v2914
  ![v2915.toNat]
def k0_mult680 (v2916 : BitVec 32) : BitVec 32 :=
  let c3_i32_1222 : BitVec 32 := 3#32
  let v2917 : BitVec 32 := Scalar.shrsi v2916 c3_i32_1222
  let c8191_i32_1223 : BitVec 32 := 8191#32
  let v2918 : BitVec 32 := Scalar.andi v2917 c8191_i32_1223
  let c8_i32_1224 : BitVec 32 := 8#32
  let v2919 : BitVec 32 := Scalar.muli v2918 c8_i32_1224
  v2919

def k0_off1826 (v2916 : BitVec 32) : Fin 2 → Nat :=
  let c3_i32_1222 : BitVec 32 := 3#32
  let v2917 : BitVec 32 := Scalar.shrsi v2916 c3_i32_1222
  let c8191_i32_1223 : BitVec 32 := 8191#32
  let v2918 : BitVec 32 := Scalar.andi v2917 c8191_i32_1223
  let c8_i32_1224 : BitVec 32 := 8#32
  let v2919 : BitVec 32 := Scalar.muli v2918 c8_i32_1224
  let v2920 : BitVec 32 := v2919
  let v2921 : Index := Scalar.indexCast v2920
  let c0_1225 : Index := 0#32
  ![v2921.toNat, 0]
def k0_off1827 (v2916 : BitVec 32) : Fin 2 → Nat :=
  let c3_i32_1222 : BitVec 32 := 3#32
  let v2917 : BitVec 32 := Scalar.shrsi v2916 c3_i32_1222
  let c8191_i32_1223 : BitVec 32 := 8191#32
  let v2918 : BitVec 32 := Scalar.andi v2917 c8191_i32_1223
  let v2926 : Index := Scalar.indexCast v2918
  let c0_1227 : Index := 0#32
  ![v2926.toNat, 0]

def k0_chk686 (i : grid0.Coords) (v48 : BitVec 32) (v2916 : BitVec 32) : Prop :=
  (∀ (k0_h10 : k0_cond10 i v48 = 1#1), 8 ∣ (k0_mult680 v2916).toNat) ∧
  (∀ (k0_h10 : k0_cond10 i v48 = 1#1), ∀ a, (k0_off1826 v2916) a + S8x128.size a ≤ S65536x128.size a) ∧
  (∀ (k0_h10 : k0_cond10 i v48 = 1#1), ∀ a, (k0_off1827 v2916) a + S1x128.size a ≤ S8192x128.size a)
theorem k0_mult680_dvd : ∀ (i : grid0.Coords) (v48 : BitVec 32) (v2916 : BitVec 32) (k0_hw686 : k0_chk686 i v48 v2916), ∀ (k0_h10 : k0_cond10 i v48 = 1#1), 8 ∣ (k0_mult680 v2916).toNat := fun i v48 v2916 k0_hw686 k0_h10 => k0_hw686.1 k0_h10
theorem k0_off1826_inb : ∀ (i : grid0.Coords) (v48 : BitVec 32) (v2916 : BitVec 32) (k0_hw686 : k0_chk686 i v48 v2916), ∀ (k0_h10 : k0_cond10 i v48 = 1#1), ∀ a, (k0_off1826 v2916) a + S8x128.size a ≤ S65536x128.size a := fun i v48 v2916 k0_hw686 k0_h10 => k0_hw686.2.1 k0_h10
theorem k0_off1827_inb : ∀ (i : grid0.Coords) (v48 : BitVec 32) (v2916 : BitVec 32) (k0_hw686 : k0_chk686 i v48 v2916), ∀ (k0_h10 : k0_cond10 i v48 = 1#1), ∀ a, (k0_off1827 v2916) a + S1x128.size a ≤ S8192x128.size a := fun i v48 v2916 k0_hw686 k0_h10 => k0_hw686.2.2 k0_h10

def k0_off1828 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c168_i32 : BitVec 32 := 168#32
  let v2931 : BitVec 32 := Scalar.addi v74 c168_i32
  let v2932 : Index := Scalar.indexCast v2931
  ![v2932.toNat]
def k0_mult681 (v2933 : BitVec 32) : BitVec 32 :=
  let c3_i32_1229 : BitVec 32 := 3#32
  let v2934 : BitVec 32 := Scalar.shrsi v2933 c3_i32_1229
  let c8191_i32_1230 : BitVec 32 := 8191#32
  let v2935 : BitVec 32 := Scalar.andi v2934 c8191_i32_1230
  let c8_i32_1231 : BitVec 32 := 8#32
  let v2936 : BitVec 32 := Scalar.muli v2935 c8_i32_1231
  v2936

def k0_off1829 (v2933 : BitVec 32) : Fin 2 → Nat :=
  let c3_i32_1229 : BitVec 32 := 3#32
  let v2934 : BitVec 32 := Scalar.shrsi v2933 c3_i32_1229
  let c8191_i32_1230 : BitVec 32 := 8191#32
  let v2935 : BitVec 32 := Scalar.andi v2934 c8191_i32_1230
  let c8_i32_1231 : BitVec 32 := 8#32
  let v2936 : BitVec 32 := Scalar.muli v2935 c8_i32_1231
  let v2937 : BitVec 32 := v2936
  let v2938 : Index := Scalar.indexCast v2937
  let c0_1232 : Index := 0#32
  ![v2938.toNat, 0]
def k0_off1830 (v2933 : BitVec 32) : Fin 2 → Nat :=
  let c3_i32_1229 : BitVec 32 := 3#32
  let v2934 : BitVec 32 := Scalar.shrsi v2933 c3_i32_1229
  let c8191_i32_1230 : BitVec 32 := 8191#32
  let v2935 : BitVec 32 := Scalar.andi v2934 c8191_i32_1230
  let v2943 : Index := Scalar.indexCast v2935
  let c0_1234 : Index := 0#32
  ![v2943.toNat, 0]

def k0_chk687 (i : grid0.Coords) (v48 : BitVec 32) (v2933 : BitVec 32) : Prop :=
  (∀ (k0_h10 : k0_cond10 i v48 = 1#1), 8 ∣ (k0_mult681 v2933).toNat) ∧
  (∀ (k0_h10 : k0_cond10 i v48 = 1#1), ∀ a, (k0_off1829 v2933) a + S8x128.size a ≤ S65536x128.size a) ∧
  (∀ (k0_h10 : k0_cond10 i v48 = 1#1), ∀ a, (k0_off1830 v2933) a + S1x128.size a ≤ S8192x128.size a)
theorem k0_mult681_dvd : ∀ (i : grid0.Coords) (v48 : BitVec 32) (v2933 : BitVec 32) (k0_hw687 : k0_chk687 i v48 v2933), ∀ (k0_h10 : k0_cond10 i v48 = 1#1), 8 ∣ (k0_mult681 v2933).toNat := fun i v48 v2933 k0_hw687 k0_h10 => k0_hw687.1 k0_h10
theorem k0_off1829_inb : ∀ (i : grid0.Coords) (v48 : BitVec 32) (v2933 : BitVec 32) (k0_hw687 : k0_chk687 i v48 v2933), ∀ (k0_h10 : k0_cond10 i v48 = 1#1), ∀ a, (k0_off1829 v2933) a + S8x128.size a ≤ S65536x128.size a := fun i v48 v2933 k0_hw687 k0_h10 => k0_hw687.2.1 k0_h10
theorem k0_off1830_inb : ∀ (i : grid0.Coords) (v48 : BitVec 32) (v2933 : BitVec 32) (k0_hw687 : k0_chk687 i v48 v2933), ∀ (k0_h10 : k0_cond10 i v48 = 1#1), ∀ a, (k0_off1830 v2933) a + S1x128.size a ≤ S8192x128.size a := fun i v48 v2933 k0_hw687 k0_h10 => k0_hw687.2.2 k0_h10

def k0_off1831 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c169_i32 : BitVec 32 := 169#32
  let v2948 : BitVec 32 := Scalar.addi v74 c169_i32
  let v2949 : Index := Scalar.indexCast v2948
  ![v2949.toNat]
def k0_mult682 (v2950 : BitVec 32) : BitVec 32 :=
  let c3_i32_1237 : BitVec 32 := 3#32
  let v2951 : BitVec 32 := Scalar.shrsi v2950 c3_i32_1237
  let c8191_i32_1238 : BitVec 32 := 8191#32
  let v2952 : BitVec 32 := Scalar.andi v2951 c8191_i32_1238
  let c8_i32_1239 : BitVec 32 := 8#32
  let v2953 : BitVec 32 := Scalar.muli v2952 c8_i32_1239
  v2953

def k0_off1832 (v2950 : BitVec 32) : Fin 2 → Nat :=
  let c3_i32_1237 : BitVec 32 := 3#32
  let v2951 : BitVec 32 := Scalar.shrsi v2950 c3_i32_1237
  let c8191_i32_1238 : BitVec 32 := 8191#32
  let v2952 : BitVec 32 := Scalar.andi v2951 c8191_i32_1238
  let c8_i32_1239 : BitVec 32 := 8#32
  let v2953 : BitVec 32 := Scalar.muli v2952 c8_i32_1239
  let v2954 : BitVec 32 := v2953
  let v2955 : Index := Scalar.indexCast v2954
  let c0_1240 : Index := 0#32
  ![v2955.toNat, 0]
def k0_off1833 (v2950 : BitVec 32) : Fin 2 → Nat :=
  let c3_i32_1237 : BitVec 32 := 3#32
  let v2951 : BitVec 32 := Scalar.shrsi v2950 c3_i32_1237
  let c8191_i32_1238 : BitVec 32 := 8191#32
  let v2952 : BitVec 32 := Scalar.andi v2951 c8191_i32_1238
  let v2960 : Index := Scalar.indexCast v2952
  let c0_1242 : Index := 0#32
  ![v2960.toNat, 0]

def k0_chk688 (i : grid0.Coords) (v48 : BitVec 32) (v2950 : BitVec 32) : Prop :=
  (∀ (k0_h10 : k0_cond10 i v48 = 1#1), 8 ∣ (k0_mult682 v2950).toNat) ∧
  (∀ (k0_h10 : k0_cond10 i v48 = 1#1), ∀ a, (k0_off1832 v2950) a + S8x128.size a ≤ S65536x128.size a) ∧
  (∀ (k0_h10 : k0_cond10 i v48 = 1#1), ∀ a, (k0_off1833 v2950) a + S1x128.size a ≤ S8192x128.size a)
theorem k0_mult682_dvd : ∀ (i : grid0.Coords) (v48 : BitVec 32) (v2950 : BitVec 32) (k0_hw688 : k0_chk688 i v48 v2950), ∀ (k0_h10 : k0_cond10 i v48 = 1#1), 8 ∣ (k0_mult682 v2950).toNat := fun i v48 v2950 k0_hw688 k0_h10 => k0_hw688.1 k0_h10
theorem k0_off1832_inb : ∀ (i : grid0.Coords) (v48 : BitVec 32) (v2950 : BitVec 32) (k0_hw688 : k0_chk688 i v48 v2950), ∀ (k0_h10 : k0_cond10 i v48 = 1#1), ∀ a, (k0_off1832 v2950) a + S8x128.size a ≤ S65536x128.size a := fun i v48 v2950 k0_hw688 k0_h10 => k0_hw688.2.1 k0_h10
theorem k0_off1833_inb : ∀ (i : grid0.Coords) (v48 : BitVec 32) (v2950 : BitVec 32) (k0_hw688 : k0_chk688 i v48 v2950), ∀ (k0_h10 : k0_cond10 i v48 = 1#1), ∀ a, (k0_off1833 v2950) a + S1x128.size a ≤ S8192x128.size a := fun i v48 v2950 k0_hw688 k0_h10 => k0_hw688.2.2 k0_h10

def k0_off1834 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c170_i32 : BitVec 32 := 170#32
  let v2965 : BitVec 32 := Scalar.addi v74 c170_i32
  let v2966 : Index := Scalar.indexCast v2965
  ![v2966.toNat]
def k0_mult683 (v2967 : BitVec 32) : BitVec 32 :=
  let c3_i32_1244 : BitVec 32 := 3#32
  let v2968 : BitVec 32 := Scalar.shrsi v2967 c3_i32_1244
  let c8191_i32_1245 : BitVec 32 := 8191#32
  let v2969 : BitVec 32 := Scalar.andi v2968 c8191_i32_1245
  let c8_i32_1246 : BitVec 32 := 8#32
  let v2970 : BitVec 32 := Scalar.muli v2969 c8_i32_1246
  v2970

def k0_off1835 (v2967 : BitVec 32) : Fin 2 → Nat :=
  let c3_i32_1244 : BitVec 32 := 3#32
  let v2968 : BitVec 32 := Scalar.shrsi v2967 c3_i32_1244
  let c8191_i32_1245 : BitVec 32 := 8191#32
  let v2969 : BitVec 32 := Scalar.andi v2968 c8191_i32_1245
  let c8_i32_1246 : BitVec 32 := 8#32
  let v2970 : BitVec 32 := Scalar.muli v2969 c8_i32_1246
  let v2971 : BitVec 32 := v2970
  let v2972 : Index := Scalar.indexCast v2971
  let c0_1247 : Index := 0#32
  ![v2972.toNat, 0]
def k0_off1836 (v2967 : BitVec 32) : Fin 2 → Nat :=
  let c3_i32_1244 : BitVec 32 := 3#32
  let v2968 : BitVec 32 := Scalar.shrsi v2967 c3_i32_1244
  let c8191_i32_1245 : BitVec 32 := 8191#32
  let v2969 : BitVec 32 := Scalar.andi v2968 c8191_i32_1245
  let v2977 : Index := Scalar.indexCast v2969
  let c0_1249 : Index := 0#32
  ![v2977.toNat, 0]

def k0_chk689 (i : grid0.Coords) (v48 : BitVec 32) (v2967 : BitVec 32) : Prop :=
  (∀ (k0_h10 : k0_cond10 i v48 = 1#1), 8 ∣ (k0_mult683 v2967).toNat) ∧
  (∀ (k0_h10 : k0_cond10 i v48 = 1#1), ∀ a, (k0_off1835 v2967) a + S8x128.size a ≤ S65536x128.size a) ∧
  (∀ (k0_h10 : k0_cond10 i v48 = 1#1), ∀ a, (k0_off1836 v2967) a + S1x128.size a ≤ S8192x128.size a)
theorem k0_mult683_dvd : ∀ (i : grid0.Coords) (v48 : BitVec 32) (v2967 : BitVec 32) (k0_hw689 : k0_chk689 i v48 v2967), ∀ (k0_h10 : k0_cond10 i v48 = 1#1), 8 ∣ (k0_mult683 v2967).toNat := fun i v48 v2967 k0_hw689 k0_h10 => k0_hw689.1 k0_h10
theorem k0_off1835_inb : ∀ (i : grid0.Coords) (v48 : BitVec 32) (v2967 : BitVec 32) (k0_hw689 : k0_chk689 i v48 v2967), ∀ (k0_h10 : k0_cond10 i v48 = 1#1), ∀ a, (k0_off1835 v2967) a + S8x128.size a ≤ S65536x128.size a := fun i v48 v2967 k0_hw689 k0_h10 => k0_hw689.2.1 k0_h10
theorem k0_off1836_inb : ∀ (i : grid0.Coords) (v48 : BitVec 32) (v2967 : BitVec 32) (k0_hw689 : k0_chk689 i v48 v2967), ∀ (k0_h10 : k0_cond10 i v48 = 1#1), ∀ a, (k0_off1836 v2967) a + S1x128.size a ≤ S8192x128.size a := fun i v48 v2967 k0_hw689 k0_h10 => k0_hw689.2.2 k0_h10

def k0_off1837 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c171_i32 : BitVec 32 := 171#32
  let v2982 : BitVec 32 := Scalar.addi v74 c171_i32
  let v2983 : Index := Scalar.indexCast v2982
  ![v2983.toNat]
def k0_mult684 (v2984 : BitVec 32) : BitVec 32 :=
  let c3_i32_1251 : BitVec 32 := 3#32
  let v2985 : BitVec 32 := Scalar.shrsi v2984 c3_i32_1251
  let c8191_i32_1252 : BitVec 32 := 8191#32
  let v2986 : BitVec 32 := Scalar.andi v2985 c8191_i32_1252
  let c8_i32_1253 : BitVec 32 := 8#32
  let v2987 : BitVec 32 := Scalar.muli v2986 c8_i32_1253
  v2987

def k0_off1838 (v2984 : BitVec 32) : Fin 2 → Nat :=
  let c3_i32_1251 : BitVec 32 := 3#32
  let v2985 : BitVec 32 := Scalar.shrsi v2984 c3_i32_1251
  let c8191_i32_1252 : BitVec 32 := 8191#32
  let v2986 : BitVec 32 := Scalar.andi v2985 c8191_i32_1252
  let c8_i32_1253 : BitVec 32 := 8#32
  let v2987 : BitVec 32 := Scalar.muli v2986 c8_i32_1253
  let v2988 : BitVec 32 := v2987
  let v2989 : Index := Scalar.indexCast v2988
  let c0_1254 : Index := 0#32
  ![v2989.toNat, 0]
def k0_off1839 (v2984 : BitVec 32) : Fin 2 → Nat :=
  let c3_i32_1251 : BitVec 32 := 3#32
  let v2985 : BitVec 32 := Scalar.shrsi v2984 c3_i32_1251
  let c8191_i32_1252 : BitVec 32 := 8191#32
  let v2986 : BitVec 32 := Scalar.andi v2985 c8191_i32_1252
  let v2994 : Index := Scalar.indexCast v2986
  let c0_1256 : Index := 0#32
  ![v2994.toNat, 0]

def k0_chk690 (i : grid0.Coords) (v48 : BitVec 32) (v2984 : BitVec 32) : Prop :=
  (∀ (k0_h10 : k0_cond10 i v48 = 1#1), 8 ∣ (k0_mult684 v2984).toNat) ∧
  (∀ (k0_h10 : k0_cond10 i v48 = 1#1), ∀ a, (k0_off1838 v2984) a + S8x128.size a ≤ S65536x128.size a) ∧
  (∀ (k0_h10 : k0_cond10 i v48 = 1#1), ∀ a, (k0_off1839 v2984) a + S1x128.size a ≤ S8192x128.size a)
theorem k0_mult684_dvd : ∀ (i : grid0.Coords) (v48 : BitVec 32) (v2984 : BitVec 32) (k0_hw690 : k0_chk690 i v48 v2984), ∀ (k0_h10 : k0_cond10 i v48 = 1#1), 8 ∣ (k0_mult684 v2984).toNat := fun i v48 v2984 k0_hw690 k0_h10 => k0_hw690.1 k0_h10
theorem k0_off1838_inb : ∀ (i : grid0.Coords) (v48 : BitVec 32) (v2984 : BitVec 32) (k0_hw690 : k0_chk690 i v48 v2984), ∀ (k0_h10 : k0_cond10 i v48 = 1#1), ∀ a, (k0_off1838 v2984) a + S8x128.size a ≤ S65536x128.size a := fun i v48 v2984 k0_hw690 k0_h10 => k0_hw690.2.1 k0_h10
theorem k0_off1839_inb : ∀ (i : grid0.Coords) (v48 : BitVec 32) (v2984 : BitVec 32) (k0_hw690 : k0_chk690 i v48 v2984), ∀ (k0_h10 : k0_cond10 i v48 = 1#1), ∀ a, (k0_off1839 v2984) a + S1x128.size a ≤ S8192x128.size a := fun i v48 v2984 k0_hw690 k0_h10 => k0_hw690.2.2 k0_h10

def k0_off1840 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c172_i32 : BitVec 32 := 172#32
  let v2999 : BitVec 32 := Scalar.addi v74 c172_i32
  let v3000 : Index := Scalar.indexCast v2999
  ![v3000.toNat]
def k0_mult685 (v3001 : BitVec 32) : BitVec 32 :=
  let c3_i32_1258 : BitVec 32 := 3#32
  let v3002 : BitVec 32 := Scalar.shrsi v3001 c3_i32_1258
  let c8191_i32_1259 : BitVec 32 := 8191#32
  let v3003 : BitVec 32 := Scalar.andi v3002 c8191_i32_1259
  let c8_i32_1260 : BitVec 32 := 8#32
  let v3004 : BitVec 32 := Scalar.muli v3003 c8_i32_1260
  v3004

def k0_off1841 (v3001 : BitVec 32) : Fin 2 → Nat :=
  let c3_i32_1258 : BitVec 32 := 3#32
  let v3002 : BitVec 32 := Scalar.shrsi v3001 c3_i32_1258
  let c8191_i32_1259 : BitVec 32 := 8191#32
  let v3003 : BitVec 32 := Scalar.andi v3002 c8191_i32_1259
  let c8_i32_1260 : BitVec 32 := 8#32
  let v3004 : BitVec 32 := Scalar.muli v3003 c8_i32_1260
  let v3005 : BitVec 32 := v3004
  let v3006 : Index := Scalar.indexCast v3005
  let c0_1261 : Index := 0#32
  ![v3006.toNat, 0]
def k0_off1842 (v3001 : BitVec 32) : Fin 2 → Nat :=
  let c3_i32_1258 : BitVec 32 := 3#32
  let v3002 : BitVec 32 := Scalar.shrsi v3001 c3_i32_1258
  let c8191_i32_1259 : BitVec 32 := 8191#32
  let v3003 : BitVec 32 := Scalar.andi v3002 c8191_i32_1259
  let v3011 : Index := Scalar.indexCast v3003
  let c0_1263 : Index := 0#32
  ![v3011.toNat, 0]

def k0_chk691 (i : grid0.Coords) (v48 : BitVec 32) (v3001 : BitVec 32) : Prop :=
  (∀ (k0_h10 : k0_cond10 i v48 = 1#1), 8 ∣ (k0_mult685 v3001).toNat) ∧
  (∀ (k0_h10 : k0_cond10 i v48 = 1#1), ∀ a, (k0_off1841 v3001) a + S8x128.size a ≤ S65536x128.size a) ∧
  (∀ (k0_h10 : k0_cond10 i v48 = 1#1), ∀ a, (k0_off1842 v3001) a + S1x128.size a ≤ S8192x128.size a)
theorem k0_mult685_dvd : ∀ (i : grid0.Coords) (v48 : BitVec 32) (v3001 : BitVec 32) (k0_hw691 : k0_chk691 i v48 v3001), ∀ (k0_h10 : k0_cond10 i v48 = 1#1), 8 ∣ (k0_mult685 v3001).toNat := fun i v48 v3001 k0_hw691 k0_h10 => k0_hw691.1 k0_h10
theorem k0_off1841_inb : ∀ (i : grid0.Coords) (v48 : BitVec 32) (v3001 : BitVec 32) (k0_hw691 : k0_chk691 i v48 v3001), ∀ (k0_h10 : k0_cond10 i v48 = 1#1), ∀ a, (k0_off1841 v3001) a + S8x128.size a ≤ S65536x128.size a := fun i v48 v3001 k0_hw691 k0_h10 => k0_hw691.2.1 k0_h10
theorem k0_off1842_inb : ∀ (i : grid0.Coords) (v48 : BitVec 32) (v3001 : BitVec 32) (k0_hw691 : k0_chk691 i v48 v3001), ∀ (k0_h10 : k0_cond10 i v48 = 1#1), ∀ a, (k0_off1842 v3001) a + S1x128.size a ≤ S8192x128.size a := fun i v48 v3001 k0_hw691 k0_h10 => k0_hw691.2.2 k0_h10

def k0_off1843 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c173_i32 : BitVec 32 := 173#32
  let v3016 : BitVec 32 := Scalar.addi v74 c173_i32
  let v3017 : Index := Scalar.indexCast v3016
  ![v3017.toNat]
def k0_mult686 (v3018 : BitVec 32) : BitVec 32 :=
  let c3_i32_1265 : BitVec 32 := 3#32
  let v3019 : BitVec 32 := Scalar.shrsi v3018 c3_i32_1265
  let c8191_i32_1266 : BitVec 32 := 8191#32
  let v3020 : BitVec 32 := Scalar.andi v3019 c8191_i32_1266
  let c8_i32_1267 : BitVec 32 := 8#32
  let v3021 : BitVec 32 := Scalar.muli v3020 c8_i32_1267
  v3021

def k0_off1844 (v3018 : BitVec 32) : Fin 2 → Nat :=
  let c3_i32_1265 : BitVec 32 := 3#32
  let v3019 : BitVec 32 := Scalar.shrsi v3018 c3_i32_1265
  let c8191_i32_1266 : BitVec 32 := 8191#32
  let v3020 : BitVec 32 := Scalar.andi v3019 c8191_i32_1266
  let c8_i32_1267 : BitVec 32 := 8#32
  let v3021 : BitVec 32 := Scalar.muli v3020 c8_i32_1267
  let v3022 : BitVec 32 := v3021
  let v3023 : Index := Scalar.indexCast v3022
  let c0_1268 : Index := 0#32
  ![v3023.toNat, 0]
def k0_off1845 (v3018 : BitVec 32) : Fin 2 → Nat :=
  let c3_i32_1265 : BitVec 32 := 3#32
  let v3019 : BitVec 32 := Scalar.shrsi v3018 c3_i32_1265
  let c8191_i32_1266 : BitVec 32 := 8191#32
  let v3020 : BitVec 32 := Scalar.andi v3019 c8191_i32_1266
  let v3028 : Index := Scalar.indexCast v3020
  let c0_1270 : Index := 0#32
  ![v3028.toNat, 0]

def k0_chk692 (i : grid0.Coords) (v48 : BitVec 32) (v3018 : BitVec 32) : Prop :=
  (∀ (k0_h10 : k0_cond10 i v48 = 1#1), 8 ∣ (k0_mult686 v3018).toNat) ∧
  (∀ (k0_h10 : k0_cond10 i v48 = 1#1), ∀ a, (k0_off1844 v3018) a + S8x128.size a ≤ S65536x128.size a) ∧
  (∀ (k0_h10 : k0_cond10 i v48 = 1#1), ∀ a, (k0_off1845 v3018) a + S1x128.size a ≤ S8192x128.size a)
theorem k0_mult686_dvd : ∀ (i : grid0.Coords) (v48 : BitVec 32) (v3018 : BitVec 32) (k0_hw692 : k0_chk692 i v48 v3018), ∀ (k0_h10 : k0_cond10 i v48 = 1#1), 8 ∣ (k0_mult686 v3018).toNat := fun i v48 v3018 k0_hw692 k0_h10 => k0_hw692.1 k0_h10
theorem k0_off1844_inb : ∀ (i : grid0.Coords) (v48 : BitVec 32) (v3018 : BitVec 32) (k0_hw692 : k0_chk692 i v48 v3018), ∀ (k0_h10 : k0_cond10 i v48 = 1#1), ∀ a, (k0_off1844 v3018) a + S8x128.size a ≤ S65536x128.size a := fun i v48 v3018 k0_hw692 k0_h10 => k0_hw692.2.1 k0_h10
theorem k0_off1845_inb : ∀ (i : grid0.Coords) (v48 : BitVec 32) (v3018 : BitVec 32) (k0_hw692 : k0_chk692 i v48 v3018), ∀ (k0_h10 : k0_cond10 i v48 = 1#1), ∀ a, (k0_off1845 v3018) a + S1x128.size a ≤ S8192x128.size a := fun i v48 v3018 k0_hw692 k0_h10 => k0_hw692.2.2 k0_h10

def k0_off1846 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c174_i32 : BitVec 32 := 174#32
  let v3033 : BitVec 32 := Scalar.addi v74 c174_i32
  let v3034 : Index := Scalar.indexCast v3033
  ![v3034.toNat]
def k0_mult687 (v3035 : BitVec 32) : BitVec 32 :=
  let c3_i32_1272 : BitVec 32 := 3#32
  let v3036 : BitVec 32 := Scalar.shrsi v3035 c3_i32_1272
  let c8191_i32_1273 : BitVec 32 := 8191#32
  let v3037 : BitVec 32 := Scalar.andi v3036 c8191_i32_1273
  let c8_i32_1274 : BitVec 32 := 8#32
  let v3038 : BitVec 32 := Scalar.muli v3037 c8_i32_1274
  v3038

def k0_off1847 (v3035 : BitVec 32) : Fin 2 → Nat :=
  let c3_i32_1272 : BitVec 32 := 3#32
  let v3036 : BitVec 32 := Scalar.shrsi v3035 c3_i32_1272
  let c8191_i32_1273 : BitVec 32 := 8191#32
  let v3037 : BitVec 32 := Scalar.andi v3036 c8191_i32_1273
  let c8_i32_1274 : BitVec 32 := 8#32
  let v3038 : BitVec 32 := Scalar.muli v3037 c8_i32_1274
  let v3039 : BitVec 32 := v3038
  let v3040 : Index := Scalar.indexCast v3039
  let c0_1275 : Index := 0#32
  ![v3040.toNat, 0]
def k0_off1848 (v3035 : BitVec 32) : Fin 2 → Nat :=
  let c3_i32_1272 : BitVec 32 := 3#32
  let v3036 : BitVec 32 := Scalar.shrsi v3035 c3_i32_1272
  let c8191_i32_1273 : BitVec 32 := 8191#32
  let v3037 : BitVec 32 := Scalar.andi v3036 c8191_i32_1273
  let v3045 : Index := Scalar.indexCast v3037
  let c0_1277 : Index := 0#32
  ![v3045.toNat, 0]

def k0_chk693 (i : grid0.Coords) (v48 : BitVec 32) (v3035 : BitVec 32) : Prop :=
  (∀ (k0_h10 : k0_cond10 i v48 = 1#1), 8 ∣ (k0_mult687 v3035).toNat) ∧
  (∀ (k0_h10 : k0_cond10 i v48 = 1#1), ∀ a, (k0_off1847 v3035) a + S8x128.size a ≤ S65536x128.size a) ∧
  (∀ (k0_h10 : k0_cond10 i v48 = 1#1), ∀ a, (k0_off1848 v3035) a + S1x128.size a ≤ S8192x128.size a)
theorem k0_mult687_dvd : ∀ (i : grid0.Coords) (v48 : BitVec 32) (v3035 : BitVec 32) (k0_hw693 : k0_chk693 i v48 v3035), ∀ (k0_h10 : k0_cond10 i v48 = 1#1), 8 ∣ (k0_mult687 v3035).toNat := fun i v48 v3035 k0_hw693 k0_h10 => k0_hw693.1 k0_h10
theorem k0_off1847_inb : ∀ (i : grid0.Coords) (v48 : BitVec 32) (v3035 : BitVec 32) (k0_hw693 : k0_chk693 i v48 v3035), ∀ (k0_h10 : k0_cond10 i v48 = 1#1), ∀ a, (k0_off1847 v3035) a + S8x128.size a ≤ S65536x128.size a := fun i v48 v3035 k0_hw693 k0_h10 => k0_hw693.2.1 k0_h10
theorem k0_off1848_inb : ∀ (i : grid0.Coords) (v48 : BitVec 32) (v3035 : BitVec 32) (k0_hw693 : k0_chk693 i v48 v3035), ∀ (k0_h10 : k0_cond10 i v48 = 1#1), ∀ a, (k0_off1848 v3035) a + S1x128.size a ≤ S8192x128.size a := fun i v48 v3035 k0_hw693 k0_h10 => k0_hw693.2.2 k0_h10

def k0_off1849 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c175_i32 : BitVec 32 := 175#32
  let v3050 : BitVec 32 := Scalar.addi v74 c175_i32
  let v3051 : Index := Scalar.indexCast v3050
  ![v3051.toNat]
def k0_mult688 (v3052 : BitVec 32) : BitVec 32 :=
  let c3_i32_1279 : BitVec 32 := 3#32
  let v3053 : BitVec 32 := Scalar.shrsi v3052 c3_i32_1279
  let c8191_i32_1280 : BitVec 32 := 8191#32
  let v3054 : BitVec 32 := Scalar.andi v3053 c8191_i32_1280
  let c8_i32_1281 : BitVec 32 := 8#32
  let v3055 : BitVec 32 := Scalar.muli v3054 c8_i32_1281
  v3055

def k0_off1850 (v3052 : BitVec 32) : Fin 2 → Nat :=
  let c3_i32_1279 : BitVec 32 := 3#32
  let v3053 : BitVec 32 := Scalar.shrsi v3052 c3_i32_1279
  let c8191_i32_1280 : BitVec 32 := 8191#32
  let v3054 : BitVec 32 := Scalar.andi v3053 c8191_i32_1280
  let c8_i32_1281 : BitVec 32 := 8#32
  let v3055 : BitVec 32 := Scalar.muli v3054 c8_i32_1281
  let v3056 : BitVec 32 := v3055
  let v3057 : Index := Scalar.indexCast v3056
  let c0_1282 : Index := 0#32
  ![v3057.toNat, 0]
def k0_off1851 (v3052 : BitVec 32) : Fin 2 → Nat :=
  let c3_i32_1279 : BitVec 32 := 3#32
  let v3053 : BitVec 32 := Scalar.shrsi v3052 c3_i32_1279
  let c8191_i32_1280 : BitVec 32 := 8191#32
  let v3054 : BitVec 32 := Scalar.andi v3053 c8191_i32_1280
  let v3062 : Index := Scalar.indexCast v3054
  let c0_1284 : Index := 0#32
  ![v3062.toNat, 0]

def k0_chk694 (i : grid0.Coords) (v48 : BitVec 32) (v3052 : BitVec 32) : Prop :=
  (∀ (k0_h10 : k0_cond10 i v48 = 1#1), 8 ∣ (k0_mult688 v3052).toNat) ∧
  (∀ (k0_h10 : k0_cond10 i v48 = 1#1), ∀ a, (k0_off1850 v3052) a + S8x128.size a ≤ S65536x128.size a) ∧
  (∀ (k0_h10 : k0_cond10 i v48 = 1#1), ∀ a, (k0_off1851 v3052) a + S1x128.size a ≤ S8192x128.size a)
theorem k0_mult688_dvd : ∀ (i : grid0.Coords) (v48 : BitVec 32) (v3052 : BitVec 32) (k0_hw694 : k0_chk694 i v48 v3052), ∀ (k0_h10 : k0_cond10 i v48 = 1#1), 8 ∣ (k0_mult688 v3052).toNat := fun i v48 v3052 k0_hw694 k0_h10 => k0_hw694.1 k0_h10
theorem k0_off1850_inb : ∀ (i : grid0.Coords) (v48 : BitVec 32) (v3052 : BitVec 32) (k0_hw694 : k0_chk694 i v48 v3052), ∀ (k0_h10 : k0_cond10 i v48 = 1#1), ∀ a, (k0_off1850 v3052) a + S8x128.size a ≤ S65536x128.size a := fun i v48 v3052 k0_hw694 k0_h10 => k0_hw694.2.1 k0_h10
theorem k0_off1851_inb : ∀ (i : grid0.Coords) (v48 : BitVec 32) (v3052 : BitVec 32) (k0_hw694 : k0_chk694 i v48 v3052), ∀ (k0_h10 : k0_cond10 i v48 = 1#1), ∀ a, (k0_off1851 v3052) a + S1x128.size a ≤ S8192x128.size a := fun i v48 v3052 k0_hw694 k0_h10 => k0_hw694.2.2 k0_h10

def k0_off1852 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c176_i32 : BitVec 32 := 176#32
  let v3067 : BitVec 32 := Scalar.addi v74 c176_i32
  let v3068 : Index := Scalar.indexCast v3067
  ![v3068.toNat]
def k0_mult689 (v3069 : BitVec 32) : BitVec 32 :=
  let c3_i32_1286 : BitVec 32 := 3#32
  let v3070 : BitVec 32 := Scalar.shrsi v3069 c3_i32_1286
  let c8191_i32_1287 : BitVec 32 := 8191#32
  let v3071 : BitVec 32 := Scalar.andi v3070 c8191_i32_1287
  let c8_i32_1288 : BitVec 32 := 8#32
  let v3072 : BitVec 32 := Scalar.muli v3071 c8_i32_1288
  v3072

def k0_off1853 (v3069 : BitVec 32) : Fin 2 → Nat :=
  let c3_i32_1286 : BitVec 32 := 3#32
  let v3070 : BitVec 32 := Scalar.shrsi v3069 c3_i32_1286
  let c8191_i32_1287 : BitVec 32 := 8191#32
  let v3071 : BitVec 32 := Scalar.andi v3070 c8191_i32_1287
  let c8_i32_1288 : BitVec 32 := 8#32
  let v3072 : BitVec 32 := Scalar.muli v3071 c8_i32_1288
  let v3073 : BitVec 32 := v3072
  let v3074 : Index := Scalar.indexCast v3073
  let c0_1289 : Index := 0#32
  ![v3074.toNat, 0]
def k0_off1854 (v3069 : BitVec 32) : Fin 2 → Nat :=
  let c3_i32_1286 : BitVec 32 := 3#32
  let v3070 : BitVec 32 := Scalar.shrsi v3069 c3_i32_1286
  let c8191_i32_1287 : BitVec 32 := 8191#32
  let v3071 : BitVec 32 := Scalar.andi v3070 c8191_i32_1287
  let v3079 : Index := Scalar.indexCast v3071
  let c0_1291 : Index := 0#32
  ![v3079.toNat, 0]

def k0_chk695 (i : grid0.Coords) (v48 : BitVec 32) (v3069 : BitVec 32) : Prop :=
  (∀ (k0_h10 : k0_cond10 i v48 = 1#1), 8 ∣ (k0_mult689 v3069).toNat) ∧
  (∀ (k0_h10 : k0_cond10 i v48 = 1#1), ∀ a, (k0_off1853 v3069) a + S8x128.size a ≤ S65536x128.size a) ∧
  (∀ (k0_h10 : k0_cond10 i v48 = 1#1), ∀ a, (k0_off1854 v3069) a + S1x128.size a ≤ S8192x128.size a)
theorem k0_mult689_dvd : ∀ (i : grid0.Coords) (v48 : BitVec 32) (v3069 : BitVec 32) (k0_hw695 : k0_chk695 i v48 v3069), ∀ (k0_h10 : k0_cond10 i v48 = 1#1), 8 ∣ (k0_mult689 v3069).toNat := fun i v48 v3069 k0_hw695 k0_h10 => k0_hw695.1 k0_h10
theorem k0_off1853_inb : ∀ (i : grid0.Coords) (v48 : BitVec 32) (v3069 : BitVec 32) (k0_hw695 : k0_chk695 i v48 v3069), ∀ (k0_h10 : k0_cond10 i v48 = 1#1), ∀ a, (k0_off1853 v3069) a + S8x128.size a ≤ S65536x128.size a := fun i v48 v3069 k0_hw695 k0_h10 => k0_hw695.2.1 k0_h10
theorem k0_off1854_inb : ∀ (i : grid0.Coords) (v48 : BitVec 32) (v3069 : BitVec 32) (k0_hw695 : k0_chk695 i v48 v3069), ∀ (k0_h10 : k0_cond10 i v48 = 1#1), ∀ a, (k0_off1854 v3069) a + S1x128.size a ≤ S8192x128.size a := fun i v48 v3069 k0_hw695 k0_h10 => k0_hw695.2.2 k0_h10

def k0_off1855 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c177_i32 : BitVec 32 := 177#32
  let v3084 : BitVec 32 := Scalar.addi v74 c177_i32
  let v3085 : Index := Scalar.indexCast v3084
  ![v3085.toNat]
def k0_mult690 (v3086 : BitVec 32) : BitVec 32 :=
  let c3_i32_1294 : BitVec 32 := 3#32
  let v3087 : BitVec 32 := Scalar.shrsi v3086 c3_i32_1294
  let c8191_i32_1295 : BitVec 32 := 8191#32
  let v3088 : BitVec 32 := Scalar.andi v3087 c8191_i32_1295
  let c8_i32_1296 : BitVec 32 := 8#32
  let v3089 : BitVec 32 := Scalar.muli v3088 c8_i32_1296
  v3089

def k0_off1856 (v3086 : BitVec 32) : Fin 2 → Nat :=
  let c3_i32_1294 : BitVec 32 := 3#32
  let v3087 : BitVec 32 := Scalar.shrsi v3086 c3_i32_1294
  let c8191_i32_1295 : BitVec 32 := 8191#32
  let v3088 : BitVec 32 := Scalar.andi v3087 c8191_i32_1295
  let c8_i32_1296 : BitVec 32 := 8#32
  let v3089 : BitVec 32 := Scalar.muli v3088 c8_i32_1296
  let v3090 : BitVec 32 := v3089
  let v3091 : Index := Scalar.indexCast v3090
  let c0_1297 : Index := 0#32
  ![v3091.toNat, 0]
def k0_off1857 (v3086 : BitVec 32) : Fin 2 → Nat :=
  let c3_i32_1294 : BitVec 32 := 3#32
  let v3087 : BitVec 32 := Scalar.shrsi v3086 c3_i32_1294
  let c8191_i32_1295 : BitVec 32 := 8191#32
  let v3088 : BitVec 32 := Scalar.andi v3087 c8191_i32_1295
  let v3096 : Index := Scalar.indexCast v3088
  let c0_1299 : Index := 0#32
  ![v3096.toNat, 0]

def k0_chk696 (i : grid0.Coords) (v48 : BitVec 32) (v3086 : BitVec 32) : Prop :=
  (∀ (k0_h10 : k0_cond10 i v48 = 1#1), 8 ∣ (k0_mult690 v3086).toNat) ∧
  (∀ (k0_h10 : k0_cond10 i v48 = 1#1), ∀ a, (k0_off1856 v3086) a + S8x128.size a ≤ S65536x128.size a) ∧
  (∀ (k0_h10 : k0_cond10 i v48 = 1#1), ∀ a, (k0_off1857 v3086) a + S1x128.size a ≤ S8192x128.size a)
theorem k0_mult690_dvd : ∀ (i : grid0.Coords) (v48 : BitVec 32) (v3086 : BitVec 32) (k0_hw696 : k0_chk696 i v48 v3086), ∀ (k0_h10 : k0_cond10 i v48 = 1#1), 8 ∣ (k0_mult690 v3086).toNat := fun i v48 v3086 k0_hw696 k0_h10 => k0_hw696.1 k0_h10
theorem k0_off1856_inb : ∀ (i : grid0.Coords) (v48 : BitVec 32) (v3086 : BitVec 32) (k0_hw696 : k0_chk696 i v48 v3086), ∀ (k0_h10 : k0_cond10 i v48 = 1#1), ∀ a, (k0_off1856 v3086) a + S8x128.size a ≤ S65536x128.size a := fun i v48 v3086 k0_hw696 k0_h10 => k0_hw696.2.1 k0_h10
theorem k0_off1857_inb : ∀ (i : grid0.Coords) (v48 : BitVec 32) (v3086 : BitVec 32) (k0_hw696 : k0_chk696 i v48 v3086), ∀ (k0_h10 : k0_cond10 i v48 = 1#1), ∀ a, (k0_off1857 v3086) a + S1x128.size a ≤ S8192x128.size a := fun i v48 v3086 k0_hw696 k0_h10 => k0_hw696.2.2 k0_h10

def k0_off1858 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c178_i32 : BitVec 32 := 178#32
  let v3101 : BitVec 32 := Scalar.addi v74 c178_i32
  let v3102 : Index := Scalar.indexCast v3101
  ![v3102.toNat]
def k0_mult691 (v3103 : BitVec 32) : BitVec 32 :=
  let c3_i32_1301 : BitVec 32 := 3#32
  let v3104 : BitVec 32 := Scalar.shrsi v3103 c3_i32_1301
  let c8191_i32_1302 : BitVec 32 := 8191#32
  let v3105 : BitVec 32 := Scalar.andi v3104 c8191_i32_1302
  let c8_i32_1303 : BitVec 32 := 8#32
  let v3106 : BitVec 32 := Scalar.muli v3105 c8_i32_1303
  v3106

def k0_off1859 (v3103 : BitVec 32) : Fin 2 → Nat :=
  let c3_i32_1301 : BitVec 32 := 3#32
  let v3104 : BitVec 32 := Scalar.shrsi v3103 c3_i32_1301
  let c8191_i32_1302 : BitVec 32 := 8191#32
  let v3105 : BitVec 32 := Scalar.andi v3104 c8191_i32_1302
  let c8_i32_1303 : BitVec 32 := 8#32
  let v3106 : BitVec 32 := Scalar.muli v3105 c8_i32_1303
  let v3107 : BitVec 32 := v3106
  let v3108 : Index := Scalar.indexCast v3107
  let c0_1304 : Index := 0#32
  ![v3108.toNat, 0]
def k0_off1860 (v3103 : BitVec 32) : Fin 2 → Nat :=
  let c3_i32_1301 : BitVec 32 := 3#32
  let v3104 : BitVec 32 := Scalar.shrsi v3103 c3_i32_1301
  let c8191_i32_1302 : BitVec 32 := 8191#32
  let v3105 : BitVec 32 := Scalar.andi v3104 c8191_i32_1302
  let v3113 : Index := Scalar.indexCast v3105
  let c0_1306 : Index := 0#32
  ![v3113.toNat, 0]

def k0_chk697 (i : grid0.Coords) (v48 : BitVec 32) (v3103 : BitVec 32) : Prop :=
  (∀ (k0_h10 : k0_cond10 i v48 = 1#1), 8 ∣ (k0_mult691 v3103).toNat) ∧
  (∀ (k0_h10 : k0_cond10 i v48 = 1#1), ∀ a, (k0_off1859 v3103) a + S8x128.size a ≤ S65536x128.size a) ∧
  (∀ (k0_h10 : k0_cond10 i v48 = 1#1), ∀ a, (k0_off1860 v3103) a + S1x128.size a ≤ S8192x128.size a)
theorem k0_mult691_dvd : ∀ (i : grid0.Coords) (v48 : BitVec 32) (v3103 : BitVec 32) (k0_hw697 : k0_chk697 i v48 v3103), ∀ (k0_h10 : k0_cond10 i v48 = 1#1), 8 ∣ (k0_mult691 v3103).toNat := fun i v48 v3103 k0_hw697 k0_h10 => k0_hw697.1 k0_h10
theorem k0_off1859_inb : ∀ (i : grid0.Coords) (v48 : BitVec 32) (v3103 : BitVec 32) (k0_hw697 : k0_chk697 i v48 v3103), ∀ (k0_h10 : k0_cond10 i v48 = 1#1), ∀ a, (k0_off1859 v3103) a + S8x128.size a ≤ S65536x128.size a := fun i v48 v3103 k0_hw697 k0_h10 => k0_hw697.2.1 k0_h10
theorem k0_off1860_inb : ∀ (i : grid0.Coords) (v48 : BitVec 32) (v3103 : BitVec 32) (k0_hw697 : k0_chk697 i v48 v3103), ∀ (k0_h10 : k0_cond10 i v48 = 1#1), ∀ a, (k0_off1860 v3103) a + S1x128.size a ≤ S8192x128.size a := fun i v48 v3103 k0_hw697 k0_h10 => k0_hw697.2.2 k0_h10

def k0_off1861 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c179_i32 : BitVec 32 := 179#32
  let v3118 : BitVec 32 := Scalar.addi v74 c179_i32
  let v3119 : Index := Scalar.indexCast v3118
  ![v3119.toNat]
def k0_mult692 (v3120 : BitVec 32) : BitVec 32 :=
  let c3_i32_1308 : BitVec 32 := 3#32
  let v3121 : BitVec 32 := Scalar.shrsi v3120 c3_i32_1308
  let c8191_i32_1309 : BitVec 32 := 8191#32
  let v3122 : BitVec 32 := Scalar.andi v3121 c8191_i32_1309
  let c8_i32_1310 : BitVec 32 := 8#32
  let v3123 : BitVec 32 := Scalar.muli v3122 c8_i32_1310
  v3123

def k0_off1862 (v3120 : BitVec 32) : Fin 2 → Nat :=
  let c3_i32_1308 : BitVec 32 := 3#32
  let v3121 : BitVec 32 := Scalar.shrsi v3120 c3_i32_1308
  let c8191_i32_1309 : BitVec 32 := 8191#32
  let v3122 : BitVec 32 := Scalar.andi v3121 c8191_i32_1309
  let c8_i32_1310 : BitVec 32 := 8#32
  let v3123 : BitVec 32 := Scalar.muli v3122 c8_i32_1310
  let v3124 : BitVec 32 := v3123
  let v3125 : Index := Scalar.indexCast v3124
  let c0_1311 : Index := 0#32
  ![v3125.toNat, 0]
def k0_off1863 (v3120 : BitVec 32) : Fin 2 → Nat :=
  let c3_i32_1308 : BitVec 32 := 3#32
  let v3121 : BitVec 32 := Scalar.shrsi v3120 c3_i32_1308
  let c8191_i32_1309 : BitVec 32 := 8191#32
  let v3122 : BitVec 32 := Scalar.andi v3121 c8191_i32_1309
  let v3130 : Index := Scalar.indexCast v3122
  let c0_1313 : Index := 0#32
  ![v3130.toNat, 0]

def k0_chk698 (i : grid0.Coords) (v48 : BitVec 32) (v3120 : BitVec 32) : Prop :=
  (∀ (k0_h10 : k0_cond10 i v48 = 1#1), 8 ∣ (k0_mult692 v3120).toNat) ∧
  (∀ (k0_h10 : k0_cond10 i v48 = 1#1), ∀ a, (k0_off1862 v3120) a + S8x128.size a ≤ S65536x128.size a) ∧
  (∀ (k0_h10 : k0_cond10 i v48 = 1#1), ∀ a, (k0_off1863 v3120) a + S1x128.size a ≤ S8192x128.size a)
theorem k0_mult692_dvd : ∀ (i : grid0.Coords) (v48 : BitVec 32) (v3120 : BitVec 32) (k0_hw698 : k0_chk698 i v48 v3120), ∀ (k0_h10 : k0_cond10 i v48 = 1#1), 8 ∣ (k0_mult692 v3120).toNat := fun i v48 v3120 k0_hw698 k0_h10 => k0_hw698.1 k0_h10
theorem k0_off1862_inb : ∀ (i : grid0.Coords) (v48 : BitVec 32) (v3120 : BitVec 32) (k0_hw698 : k0_chk698 i v48 v3120), ∀ (k0_h10 : k0_cond10 i v48 = 1#1), ∀ a, (k0_off1862 v3120) a + S8x128.size a ≤ S65536x128.size a := fun i v48 v3120 k0_hw698 k0_h10 => k0_hw698.2.1 k0_h10
theorem k0_off1863_inb : ∀ (i : grid0.Coords) (v48 : BitVec 32) (v3120 : BitVec 32) (k0_hw698 : k0_chk698 i v48 v3120), ∀ (k0_h10 : k0_cond10 i v48 = 1#1), ∀ a, (k0_off1863 v3120) a + S1x128.size a ≤ S8192x128.size a := fun i v48 v3120 k0_hw698 k0_h10 => k0_hw698.2.2 k0_h10

def k0_off1864 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c180_i32 : BitVec 32 := 180#32
  let v3135 : BitVec 32 := Scalar.addi v74 c180_i32
  let v3136 : Index := Scalar.indexCast v3135
  ![v3136.toNat]
def k0_mult693 (v3137 : BitVec 32) : BitVec 32 :=
  let c3_i32_1315 : BitVec 32 := 3#32
  let v3138 : BitVec 32 := Scalar.shrsi v3137 c3_i32_1315
  let c8191_i32_1316 : BitVec 32 := 8191#32
  let v3139 : BitVec 32 := Scalar.andi v3138 c8191_i32_1316
  let c8_i32_1317 : BitVec 32 := 8#32
  let v3140 : BitVec 32 := Scalar.muli v3139 c8_i32_1317
  v3140

def k0_off1865 (v3137 : BitVec 32) : Fin 2 → Nat :=
  let c3_i32_1315 : BitVec 32 := 3#32
  let v3138 : BitVec 32 := Scalar.shrsi v3137 c3_i32_1315
  let c8191_i32_1316 : BitVec 32 := 8191#32
  let v3139 : BitVec 32 := Scalar.andi v3138 c8191_i32_1316
  let c8_i32_1317 : BitVec 32 := 8#32
  let v3140 : BitVec 32 := Scalar.muli v3139 c8_i32_1317
  let v3141 : BitVec 32 := v3140
  let v3142 : Index := Scalar.indexCast v3141
  let c0_1318 : Index := 0#32
  ![v3142.toNat, 0]
def k0_off1866 (v3137 : BitVec 32) : Fin 2 → Nat :=
  let c3_i32_1315 : BitVec 32 := 3#32
  let v3138 : BitVec 32 := Scalar.shrsi v3137 c3_i32_1315
  let c8191_i32_1316 : BitVec 32 := 8191#32
  let v3139 : BitVec 32 := Scalar.andi v3138 c8191_i32_1316
  let v3147 : Index := Scalar.indexCast v3139
  let c0_1320 : Index := 0#32
  ![v3147.toNat, 0]

def k0_chk699 (i : grid0.Coords) (v48 : BitVec 32) (v3137 : BitVec 32) : Prop :=
  (∀ (k0_h10 : k0_cond10 i v48 = 1#1), 8 ∣ (k0_mult693 v3137).toNat) ∧
  (∀ (k0_h10 : k0_cond10 i v48 = 1#1), ∀ a, (k0_off1865 v3137) a + S8x128.size a ≤ S65536x128.size a) ∧
  (∀ (k0_h10 : k0_cond10 i v48 = 1#1), ∀ a, (k0_off1866 v3137) a + S1x128.size a ≤ S8192x128.size a)
theorem k0_mult693_dvd : ∀ (i : grid0.Coords) (v48 : BitVec 32) (v3137 : BitVec 32) (k0_hw699 : k0_chk699 i v48 v3137), ∀ (k0_h10 : k0_cond10 i v48 = 1#1), 8 ∣ (k0_mult693 v3137).toNat := fun i v48 v3137 k0_hw699 k0_h10 => k0_hw699.1 k0_h10
theorem k0_off1865_inb : ∀ (i : grid0.Coords) (v48 : BitVec 32) (v3137 : BitVec 32) (k0_hw699 : k0_chk699 i v48 v3137), ∀ (k0_h10 : k0_cond10 i v48 = 1#1), ∀ a, (k0_off1865 v3137) a + S8x128.size a ≤ S65536x128.size a := fun i v48 v3137 k0_hw699 k0_h10 => k0_hw699.2.1 k0_h10
theorem k0_off1866_inb : ∀ (i : grid0.Coords) (v48 : BitVec 32) (v3137 : BitVec 32) (k0_hw699 : k0_chk699 i v48 v3137), ∀ (k0_h10 : k0_cond10 i v48 = 1#1), ∀ a, (k0_off1866 v3137) a + S1x128.size a ≤ S8192x128.size a := fun i v48 v3137 k0_hw699 k0_h10 => k0_hw699.2.2 k0_h10

def k0_off1867 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c181_i32 : BitVec 32 := 181#32
  let v3152 : BitVec 32 := Scalar.addi v74 c181_i32
  let v3153 : Index := Scalar.indexCast v3152
  ![v3153.toNat]
def k0_mult694 (v3154 : BitVec 32) : BitVec 32 :=
  let c3_i32_1322 : BitVec 32 := 3#32
  let v3155 : BitVec 32 := Scalar.shrsi v3154 c3_i32_1322
  let c8191_i32_1323 : BitVec 32 := 8191#32
  let v3156 : BitVec 32 := Scalar.andi v3155 c8191_i32_1323
  let c8_i32_1324 : BitVec 32 := 8#32
  let v3157 : BitVec 32 := Scalar.muli v3156 c8_i32_1324
  v3157

def k0_off1868 (v3154 : BitVec 32) : Fin 2 → Nat :=
  let c3_i32_1322 : BitVec 32 := 3#32
  let v3155 : BitVec 32 := Scalar.shrsi v3154 c3_i32_1322
  let c8191_i32_1323 : BitVec 32 := 8191#32
  let v3156 : BitVec 32 := Scalar.andi v3155 c8191_i32_1323
  let c8_i32_1324 : BitVec 32 := 8#32
  let v3157 : BitVec 32 := Scalar.muli v3156 c8_i32_1324
  let v3158 : BitVec 32 := v3157
  let v3159 : Index := Scalar.indexCast v3158
  let c0_1325 : Index := 0#32
  ![v3159.toNat, 0]
def k0_off1869 (v3154 : BitVec 32) : Fin 2 → Nat :=
  let c3_i32_1322 : BitVec 32 := 3#32
  let v3155 : BitVec 32 := Scalar.shrsi v3154 c3_i32_1322
  let c8191_i32_1323 : BitVec 32 := 8191#32
  let v3156 : BitVec 32 := Scalar.andi v3155 c8191_i32_1323
  let v3164 : Index := Scalar.indexCast v3156
  let c0_1327 : Index := 0#32
  ![v3164.toNat, 0]

def k0_chk700 (i : grid0.Coords) (v48 : BitVec 32) (v3154 : BitVec 32) : Prop :=
  (∀ (k0_h10 : k0_cond10 i v48 = 1#1), 8 ∣ (k0_mult694 v3154).toNat) ∧
  (∀ (k0_h10 : k0_cond10 i v48 = 1#1), ∀ a, (k0_off1868 v3154) a + S8x128.size a ≤ S65536x128.size a) ∧
  (∀ (k0_h10 : k0_cond10 i v48 = 1#1), ∀ a, (k0_off1869 v3154) a + S1x128.size a ≤ S8192x128.size a)
theorem k0_mult694_dvd : ∀ (i : grid0.Coords) (v48 : BitVec 32) (v3154 : BitVec 32) (k0_hw700 : k0_chk700 i v48 v3154), ∀ (k0_h10 : k0_cond10 i v48 = 1#1), 8 ∣ (k0_mult694 v3154).toNat := fun i v48 v3154 k0_hw700 k0_h10 => k0_hw700.1 k0_h10
theorem k0_off1868_inb : ∀ (i : grid0.Coords) (v48 : BitVec 32) (v3154 : BitVec 32) (k0_hw700 : k0_chk700 i v48 v3154), ∀ (k0_h10 : k0_cond10 i v48 = 1#1), ∀ a, (k0_off1868 v3154) a + S8x128.size a ≤ S65536x128.size a := fun i v48 v3154 k0_hw700 k0_h10 => k0_hw700.2.1 k0_h10
theorem k0_off1869_inb : ∀ (i : grid0.Coords) (v48 : BitVec 32) (v3154 : BitVec 32) (k0_hw700 : k0_chk700 i v48 v3154), ∀ (k0_h10 : k0_cond10 i v48 = 1#1), ∀ a, (k0_off1869 v3154) a + S1x128.size a ≤ S8192x128.size a := fun i v48 v3154 k0_hw700 k0_h10 => k0_hw700.2.2 k0_h10

def k0_off1870 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c182_i32 : BitVec 32 := 182#32
  let v3169 : BitVec 32 := Scalar.addi v74 c182_i32
  let v3170 : Index := Scalar.indexCast v3169
  ![v3170.toNat]
def k0_mult695 (v3171 : BitVec 32) : BitVec 32 :=
  let c3_i32_1329 : BitVec 32 := 3#32
  let v3172 : BitVec 32 := Scalar.shrsi v3171 c3_i32_1329
  let c8191_i32_1330 : BitVec 32 := 8191#32
  let v3173 : BitVec 32 := Scalar.andi v3172 c8191_i32_1330
  let c8_i32_1331 : BitVec 32 := 8#32
  let v3174 : BitVec 32 := Scalar.muli v3173 c8_i32_1331
  v3174

def k0_off1871 (v3171 : BitVec 32) : Fin 2 → Nat :=
  let c3_i32_1329 : BitVec 32 := 3#32
  let v3172 : BitVec 32 := Scalar.shrsi v3171 c3_i32_1329
  let c8191_i32_1330 : BitVec 32 := 8191#32
  let v3173 : BitVec 32 := Scalar.andi v3172 c8191_i32_1330
  let c8_i32_1331 : BitVec 32 := 8#32
  let v3174 : BitVec 32 := Scalar.muli v3173 c8_i32_1331
  let v3175 : BitVec 32 := v3174
  let v3176 : Index := Scalar.indexCast v3175
  let c0_1332 : Index := 0#32
  ![v3176.toNat, 0]
def k0_off1872 (v3171 : BitVec 32) : Fin 2 → Nat :=
  let c3_i32_1329 : BitVec 32 := 3#32
  let v3172 : BitVec 32 := Scalar.shrsi v3171 c3_i32_1329
  let c8191_i32_1330 : BitVec 32 := 8191#32
  let v3173 : BitVec 32 := Scalar.andi v3172 c8191_i32_1330
  let v3181 : Index := Scalar.indexCast v3173
  let c0_1334 : Index := 0#32
  ![v3181.toNat, 0]

def k0_chk701 (i : grid0.Coords) (v48 : BitVec 32) (v3171 : BitVec 32) : Prop :=
  (∀ (k0_h10 : k0_cond10 i v48 = 1#1), 8 ∣ (k0_mult695 v3171).toNat) ∧
  (∀ (k0_h10 : k0_cond10 i v48 = 1#1), ∀ a, (k0_off1871 v3171) a + S8x128.size a ≤ S65536x128.size a) ∧
  (∀ (k0_h10 : k0_cond10 i v48 = 1#1), ∀ a, (k0_off1872 v3171) a + S1x128.size a ≤ S8192x128.size a)
theorem k0_mult695_dvd : ∀ (i : grid0.Coords) (v48 : BitVec 32) (v3171 : BitVec 32) (k0_hw701 : k0_chk701 i v48 v3171), ∀ (k0_h10 : k0_cond10 i v48 = 1#1), 8 ∣ (k0_mult695 v3171).toNat := fun i v48 v3171 k0_hw701 k0_h10 => k0_hw701.1 k0_h10
theorem k0_off1871_inb : ∀ (i : grid0.Coords) (v48 : BitVec 32) (v3171 : BitVec 32) (k0_hw701 : k0_chk701 i v48 v3171), ∀ (k0_h10 : k0_cond10 i v48 = 1#1), ∀ a, (k0_off1871 v3171) a + S8x128.size a ≤ S65536x128.size a := fun i v48 v3171 k0_hw701 k0_h10 => k0_hw701.2.1 k0_h10
theorem k0_off1872_inb : ∀ (i : grid0.Coords) (v48 : BitVec 32) (v3171 : BitVec 32) (k0_hw701 : k0_chk701 i v48 v3171), ∀ (k0_h10 : k0_cond10 i v48 = 1#1), ∀ a, (k0_off1872 v3171) a + S1x128.size a ≤ S8192x128.size a := fun i v48 v3171 k0_hw701 k0_h10 => k0_hw701.2.2 k0_h10

def k0_off1873 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c183_i32 : BitVec 32 := 183#32
  let v3186 : BitVec 32 := Scalar.addi v74 c183_i32
  let v3187 : Index := Scalar.indexCast v3186
  ![v3187.toNat]
def k0_mult696 (v3188 : BitVec 32) : BitVec 32 :=
  let c3_i32_1336 : BitVec 32 := 3#32
  let v3189 : BitVec 32 := Scalar.shrsi v3188 c3_i32_1336
  let c8191_i32_1337 : BitVec 32 := 8191#32
  let v3190 : BitVec 32 := Scalar.andi v3189 c8191_i32_1337
  let c8_i32_1338 : BitVec 32 := 8#32
  let v3191 : BitVec 32 := Scalar.muli v3190 c8_i32_1338
  v3191

def k0_off1874 (v3188 : BitVec 32) : Fin 2 → Nat :=
  let c3_i32_1336 : BitVec 32 := 3#32
  let v3189 : BitVec 32 := Scalar.shrsi v3188 c3_i32_1336
  let c8191_i32_1337 : BitVec 32 := 8191#32
  let v3190 : BitVec 32 := Scalar.andi v3189 c8191_i32_1337
  let c8_i32_1338 : BitVec 32 := 8#32
  let v3191 : BitVec 32 := Scalar.muli v3190 c8_i32_1338
  let v3192 : BitVec 32 := v3191
  let v3193 : Index := Scalar.indexCast v3192
  let c0_1339 : Index := 0#32
  ![v3193.toNat, 0]
def k0_off1875 (v3188 : BitVec 32) : Fin 2 → Nat :=
  let c3_i32_1336 : BitVec 32 := 3#32
  let v3189 : BitVec 32 := Scalar.shrsi v3188 c3_i32_1336
  let c8191_i32_1337 : BitVec 32 := 8191#32
  let v3190 : BitVec 32 := Scalar.andi v3189 c8191_i32_1337
  let v3198 : Index := Scalar.indexCast v3190
  let c0_1341 : Index := 0#32
  ![v3198.toNat, 0]

def k0_chk702 (i : grid0.Coords) (v48 : BitVec 32) (v3188 : BitVec 32) : Prop :=
  (∀ (k0_h10 : k0_cond10 i v48 = 1#1), 8 ∣ (k0_mult696 v3188).toNat) ∧
  (∀ (k0_h10 : k0_cond10 i v48 = 1#1), ∀ a, (k0_off1874 v3188) a + S8x128.size a ≤ S65536x128.size a) ∧
  (∀ (k0_h10 : k0_cond10 i v48 = 1#1), ∀ a, (k0_off1875 v3188) a + S1x128.size a ≤ S8192x128.size a)
theorem k0_mult696_dvd : ∀ (i : grid0.Coords) (v48 : BitVec 32) (v3188 : BitVec 32) (k0_hw702 : k0_chk702 i v48 v3188), ∀ (k0_h10 : k0_cond10 i v48 = 1#1), 8 ∣ (k0_mult696 v3188).toNat := fun i v48 v3188 k0_hw702 k0_h10 => k0_hw702.1 k0_h10
theorem k0_off1874_inb : ∀ (i : grid0.Coords) (v48 : BitVec 32) (v3188 : BitVec 32) (k0_hw702 : k0_chk702 i v48 v3188), ∀ (k0_h10 : k0_cond10 i v48 = 1#1), ∀ a, (k0_off1874 v3188) a + S8x128.size a ≤ S65536x128.size a := fun i v48 v3188 k0_hw702 k0_h10 => k0_hw702.2.1 k0_h10
theorem k0_off1875_inb : ∀ (i : grid0.Coords) (v48 : BitVec 32) (v3188 : BitVec 32) (k0_hw702 : k0_chk702 i v48 v3188), ∀ (k0_h10 : k0_cond10 i v48 = 1#1), ∀ a, (k0_off1875 v3188) a + S1x128.size a ≤ S8192x128.size a := fun i v48 v3188 k0_hw702 k0_h10 => k0_hw702.2.2 k0_h10

def k0_off1876 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c184_i32 : BitVec 32 := 184#32
  let v3203 : BitVec 32 := Scalar.addi v74 c184_i32
  let v3204 : Index := Scalar.indexCast v3203
  ![v3204.toNat]
def k0_mult697 (v3205 : BitVec 32) : BitVec 32 :=
  let c3_i32_1343 : BitVec 32 := 3#32
  let v3206 : BitVec 32 := Scalar.shrsi v3205 c3_i32_1343
  let c8191_i32_1344 : BitVec 32 := 8191#32
  let v3207 : BitVec 32 := Scalar.andi v3206 c8191_i32_1344
  let c8_i32_1345 : BitVec 32 := 8#32
  let v3208 : BitVec 32 := Scalar.muli v3207 c8_i32_1345
  v3208

def k0_off1877 (v3205 : BitVec 32) : Fin 2 → Nat :=
  let c3_i32_1343 : BitVec 32 := 3#32
  let v3206 : BitVec 32 := Scalar.shrsi v3205 c3_i32_1343
  let c8191_i32_1344 : BitVec 32 := 8191#32
  let v3207 : BitVec 32 := Scalar.andi v3206 c8191_i32_1344
  let c8_i32_1345 : BitVec 32 := 8#32
  let v3208 : BitVec 32 := Scalar.muli v3207 c8_i32_1345
  let v3209 : BitVec 32 := v3208
  let v3210 : Index := Scalar.indexCast v3209
  let c0_1346 : Index := 0#32
  ![v3210.toNat, 0]
def k0_off1878 (v3205 : BitVec 32) : Fin 2 → Nat :=
  let c3_i32_1343 : BitVec 32 := 3#32
  let v3206 : BitVec 32 := Scalar.shrsi v3205 c3_i32_1343
  let c8191_i32_1344 : BitVec 32 := 8191#32
  let v3207 : BitVec 32 := Scalar.andi v3206 c8191_i32_1344
  let v3215 : Index := Scalar.indexCast v3207
  let c0_1348 : Index := 0#32
  ![v3215.toNat, 0]

def k0_chk703 (i : grid0.Coords) (v48 : BitVec 32) (v3205 : BitVec 32) : Prop :=
  (∀ (k0_h10 : k0_cond10 i v48 = 1#1), 8 ∣ (k0_mult697 v3205).toNat) ∧
  (∀ (k0_h10 : k0_cond10 i v48 = 1#1), ∀ a, (k0_off1877 v3205) a + S8x128.size a ≤ S65536x128.size a) ∧
  (∀ (k0_h10 : k0_cond10 i v48 = 1#1), ∀ a, (k0_off1878 v3205) a + S1x128.size a ≤ S8192x128.size a)
theorem k0_mult697_dvd : ∀ (i : grid0.Coords) (v48 : BitVec 32) (v3205 : BitVec 32) (k0_hw703 : k0_chk703 i v48 v3205), ∀ (k0_h10 : k0_cond10 i v48 = 1#1), 8 ∣ (k0_mult697 v3205).toNat := fun i v48 v3205 k0_hw703 k0_h10 => k0_hw703.1 k0_h10
theorem k0_off1877_inb : ∀ (i : grid0.Coords) (v48 : BitVec 32) (v3205 : BitVec 32) (k0_hw703 : k0_chk703 i v48 v3205), ∀ (k0_h10 : k0_cond10 i v48 = 1#1), ∀ a, (k0_off1877 v3205) a + S8x128.size a ≤ S65536x128.size a := fun i v48 v3205 k0_hw703 k0_h10 => k0_hw703.2.1 k0_h10
theorem k0_off1878_inb : ∀ (i : grid0.Coords) (v48 : BitVec 32) (v3205 : BitVec 32) (k0_hw703 : k0_chk703 i v48 v3205), ∀ (k0_h10 : k0_cond10 i v48 = 1#1), ∀ a, (k0_off1878 v3205) a + S1x128.size a ≤ S8192x128.size a := fun i v48 v3205 k0_hw703 k0_h10 => k0_hw703.2.2 k0_h10

def k0_off1879 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c185_i32 : BitVec 32 := 185#32
  let v3220 : BitVec 32 := Scalar.addi v74 c185_i32
  let v3221 : Index := Scalar.indexCast v3220
  ![v3221.toNat]
def k0_mult698 (v3222 : BitVec 32) : BitVec 32 :=
  let c3_i32_1351 : BitVec 32 := 3#32
  let v3223 : BitVec 32 := Scalar.shrsi v3222 c3_i32_1351
  let c8191_i32_1352 : BitVec 32 := 8191#32
  let v3224 : BitVec 32 := Scalar.andi v3223 c8191_i32_1352
  let c8_i32_1353 : BitVec 32 := 8#32
  let v3225 : BitVec 32 := Scalar.muli v3224 c8_i32_1353
  v3225

def k0_off1880 (v3222 : BitVec 32) : Fin 2 → Nat :=
  let c3_i32_1351 : BitVec 32 := 3#32
  let v3223 : BitVec 32 := Scalar.shrsi v3222 c3_i32_1351
  let c8191_i32_1352 : BitVec 32 := 8191#32
  let v3224 : BitVec 32 := Scalar.andi v3223 c8191_i32_1352
  let c8_i32_1353 : BitVec 32 := 8#32
  let v3225 : BitVec 32 := Scalar.muli v3224 c8_i32_1353
  let v3226 : BitVec 32 := v3225
  let v3227 : Index := Scalar.indexCast v3226
  let c0_1354 : Index := 0#32
  ![v3227.toNat, 0]
def k0_off1881 (v3222 : BitVec 32) : Fin 2 → Nat :=
  let c3_i32_1351 : BitVec 32 := 3#32
  let v3223 : BitVec 32 := Scalar.shrsi v3222 c3_i32_1351
  let c8191_i32_1352 : BitVec 32 := 8191#32
  let v3224 : BitVec 32 := Scalar.andi v3223 c8191_i32_1352
  let v3232 : Index := Scalar.indexCast v3224
  let c0_1356 : Index := 0#32
  ![v3232.toNat, 0]

def k0_chk704 (i : grid0.Coords) (v48 : BitVec 32) (v3222 : BitVec 32) : Prop :=
  (∀ (k0_h10 : k0_cond10 i v48 = 1#1), 8 ∣ (k0_mult698 v3222).toNat) ∧
  (∀ (k0_h10 : k0_cond10 i v48 = 1#1), ∀ a, (k0_off1880 v3222) a + S8x128.size a ≤ S65536x128.size a) ∧
  (∀ (k0_h10 : k0_cond10 i v48 = 1#1), ∀ a, (k0_off1881 v3222) a + S1x128.size a ≤ S8192x128.size a)
theorem k0_mult698_dvd : ∀ (i : grid0.Coords) (v48 : BitVec 32) (v3222 : BitVec 32) (k0_hw704 : k0_chk704 i v48 v3222), ∀ (k0_h10 : k0_cond10 i v48 = 1#1), 8 ∣ (k0_mult698 v3222).toNat := fun i v48 v3222 k0_hw704 k0_h10 => k0_hw704.1 k0_h10
theorem k0_off1880_inb : ∀ (i : grid0.Coords) (v48 : BitVec 32) (v3222 : BitVec 32) (k0_hw704 : k0_chk704 i v48 v3222), ∀ (k0_h10 : k0_cond10 i v48 = 1#1), ∀ a, (k0_off1880 v3222) a + S8x128.size a ≤ S65536x128.size a := fun i v48 v3222 k0_hw704 k0_h10 => k0_hw704.2.1 k0_h10
theorem k0_off1881_inb : ∀ (i : grid0.Coords) (v48 : BitVec 32) (v3222 : BitVec 32) (k0_hw704 : k0_chk704 i v48 v3222), ∀ (k0_h10 : k0_cond10 i v48 = 1#1), ∀ a, (k0_off1881 v3222) a + S1x128.size a ≤ S8192x128.size a := fun i v48 v3222 k0_hw704 k0_h10 => k0_hw704.2.2 k0_h10

def k0_off1882 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c186_i32 : BitVec 32 := 186#32
  let v3237 : BitVec 32 := Scalar.addi v74 c186_i32
  let v3238 : Index := Scalar.indexCast v3237
  ![v3238.toNat]
def k0_mult699 (v3239 : BitVec 32) : BitVec 32 :=
  let c3_i32_1358 : BitVec 32 := 3#32
  let v3240 : BitVec 32 := Scalar.shrsi v3239 c3_i32_1358
  let c8191_i32_1359 : BitVec 32 := 8191#32
  let v3241 : BitVec 32 := Scalar.andi v3240 c8191_i32_1359
  let c8_i32_1360 : BitVec 32 := 8#32
  let v3242 : BitVec 32 := Scalar.muli v3241 c8_i32_1360
  v3242

def k0_off1883 (v3239 : BitVec 32) : Fin 2 → Nat :=
  let c3_i32_1358 : BitVec 32 := 3#32
  let v3240 : BitVec 32 := Scalar.shrsi v3239 c3_i32_1358
  let c8191_i32_1359 : BitVec 32 := 8191#32
  let v3241 : BitVec 32 := Scalar.andi v3240 c8191_i32_1359
  let c8_i32_1360 : BitVec 32 := 8#32
  let v3242 : BitVec 32 := Scalar.muli v3241 c8_i32_1360
  let v3243 : BitVec 32 := v3242
  let v3244 : Index := Scalar.indexCast v3243
  let c0_1361 : Index := 0#32
  ![v3244.toNat, 0]
def k0_off1884 (v3239 : BitVec 32) : Fin 2 → Nat :=
  let c3_i32_1358 : BitVec 32 := 3#32
  let v3240 : BitVec 32 := Scalar.shrsi v3239 c3_i32_1358
  let c8191_i32_1359 : BitVec 32 := 8191#32
  let v3241 : BitVec 32 := Scalar.andi v3240 c8191_i32_1359
  let v3249 : Index := Scalar.indexCast v3241
  let c0_1363 : Index := 0#32
  ![v3249.toNat, 0]

def k0_chk705 (i : grid0.Coords) (v48 : BitVec 32) (v3239 : BitVec 32) : Prop :=
  (∀ (k0_h10 : k0_cond10 i v48 = 1#1), 8 ∣ (k0_mult699 v3239).toNat) ∧
  (∀ (k0_h10 : k0_cond10 i v48 = 1#1), ∀ a, (k0_off1883 v3239) a + S8x128.size a ≤ S65536x128.size a) ∧
  (∀ (k0_h10 : k0_cond10 i v48 = 1#1), ∀ a, (k0_off1884 v3239) a + S1x128.size a ≤ S8192x128.size a)
theorem k0_mult699_dvd : ∀ (i : grid0.Coords) (v48 : BitVec 32) (v3239 : BitVec 32) (k0_hw705 : k0_chk705 i v48 v3239), ∀ (k0_h10 : k0_cond10 i v48 = 1#1), 8 ∣ (k0_mult699 v3239).toNat := fun i v48 v3239 k0_hw705 k0_h10 => k0_hw705.1 k0_h10
theorem k0_off1883_inb : ∀ (i : grid0.Coords) (v48 : BitVec 32) (v3239 : BitVec 32) (k0_hw705 : k0_chk705 i v48 v3239), ∀ (k0_h10 : k0_cond10 i v48 = 1#1), ∀ a, (k0_off1883 v3239) a + S8x128.size a ≤ S65536x128.size a := fun i v48 v3239 k0_hw705 k0_h10 => k0_hw705.2.1 k0_h10
theorem k0_off1884_inb : ∀ (i : grid0.Coords) (v48 : BitVec 32) (v3239 : BitVec 32) (k0_hw705 : k0_chk705 i v48 v3239), ∀ (k0_h10 : k0_cond10 i v48 = 1#1), ∀ a, (k0_off1884 v3239) a + S1x128.size a ≤ S8192x128.size a := fun i v48 v3239 k0_hw705 k0_h10 => k0_hw705.2.2 k0_h10

def k0_off1885 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c187_i32 : BitVec 32 := 187#32
  let v3254 : BitVec 32 := Scalar.addi v74 c187_i32
  let v3255 : Index := Scalar.indexCast v3254
  ![v3255.toNat]
def k0_mult700 (v3256 : BitVec 32) : BitVec 32 :=
  let c3_i32_1365 : BitVec 32 := 3#32
  let v3257 : BitVec 32 := Scalar.shrsi v3256 c3_i32_1365
  let c8191_i32_1366 : BitVec 32 := 8191#32
  let v3258 : BitVec 32 := Scalar.andi v3257 c8191_i32_1366
  let c8_i32_1367 : BitVec 32 := 8#32
  let v3259 : BitVec 32 := Scalar.muli v3258 c8_i32_1367
  v3259

def k0_off1886 (v3256 : BitVec 32) : Fin 2 → Nat :=
  let c3_i32_1365 : BitVec 32 := 3#32
  let v3257 : BitVec 32 := Scalar.shrsi v3256 c3_i32_1365
  let c8191_i32_1366 : BitVec 32 := 8191#32
  let v3258 : BitVec 32 := Scalar.andi v3257 c8191_i32_1366
  let c8_i32_1367 : BitVec 32 := 8#32
  let v3259 : BitVec 32 := Scalar.muli v3258 c8_i32_1367
  let v3260 : BitVec 32 := v3259
  let v3261 : Index := Scalar.indexCast v3260
  let c0_1368 : Index := 0#32
  ![v3261.toNat, 0]
def k0_off1887 (v3256 : BitVec 32) : Fin 2 → Nat :=
  let c3_i32_1365 : BitVec 32 := 3#32
  let v3257 : BitVec 32 := Scalar.shrsi v3256 c3_i32_1365
  let c8191_i32_1366 : BitVec 32 := 8191#32
  let v3258 : BitVec 32 := Scalar.andi v3257 c8191_i32_1366
  let v3266 : Index := Scalar.indexCast v3258
  let c0_1370 : Index := 0#32
  ![v3266.toNat, 0]

def k0_chk706 (i : grid0.Coords) (v48 : BitVec 32) (v3256 : BitVec 32) : Prop :=
  (∀ (k0_h10 : k0_cond10 i v48 = 1#1), 8 ∣ (k0_mult700 v3256).toNat) ∧
  (∀ (k0_h10 : k0_cond10 i v48 = 1#1), ∀ a, (k0_off1886 v3256) a + S8x128.size a ≤ S65536x128.size a) ∧
  (∀ (k0_h10 : k0_cond10 i v48 = 1#1), ∀ a, (k0_off1887 v3256) a + S1x128.size a ≤ S8192x128.size a)
theorem k0_mult700_dvd : ∀ (i : grid0.Coords) (v48 : BitVec 32) (v3256 : BitVec 32) (k0_hw706 : k0_chk706 i v48 v3256), ∀ (k0_h10 : k0_cond10 i v48 = 1#1), 8 ∣ (k0_mult700 v3256).toNat := fun i v48 v3256 k0_hw706 k0_h10 => k0_hw706.1 k0_h10
theorem k0_off1886_inb : ∀ (i : grid0.Coords) (v48 : BitVec 32) (v3256 : BitVec 32) (k0_hw706 : k0_chk706 i v48 v3256), ∀ (k0_h10 : k0_cond10 i v48 = 1#1), ∀ a, (k0_off1886 v3256) a + S8x128.size a ≤ S65536x128.size a := fun i v48 v3256 k0_hw706 k0_h10 => k0_hw706.2.1 k0_h10
theorem k0_off1887_inb : ∀ (i : grid0.Coords) (v48 : BitVec 32) (v3256 : BitVec 32) (k0_hw706 : k0_chk706 i v48 v3256), ∀ (k0_h10 : k0_cond10 i v48 = 1#1), ∀ a, (k0_off1887 v3256) a + S1x128.size a ≤ S8192x128.size a := fun i v48 v3256 k0_hw706 k0_h10 => k0_hw706.2.2 k0_h10

def k0_off1888 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c188_i32 : BitVec 32 := 188#32
  let v3271 : BitVec 32 := Scalar.addi v74 c188_i32
  let v3272 : Index := Scalar.indexCast v3271
  ![v3272.toNat]
def k0_mult701 (v3273 : BitVec 32) : BitVec 32 :=
  let c3_i32_1372 : BitVec 32 := 3#32
  let v3274 : BitVec 32 := Scalar.shrsi v3273 c3_i32_1372
  let c8191_i32_1373 : BitVec 32 := 8191#32
  let v3275 : BitVec 32 := Scalar.andi v3274 c8191_i32_1373
  let c8_i32_1374 : BitVec 32 := 8#32
  let v3276 : BitVec 32 := Scalar.muli v3275 c8_i32_1374
  v3276

def k0_off1889 (v3273 : BitVec 32) : Fin 2 → Nat :=
  let c3_i32_1372 : BitVec 32 := 3#32
  let v3274 : BitVec 32 := Scalar.shrsi v3273 c3_i32_1372
  let c8191_i32_1373 : BitVec 32 := 8191#32
  let v3275 : BitVec 32 := Scalar.andi v3274 c8191_i32_1373
  let c8_i32_1374 : BitVec 32 := 8#32
  let v3276 : BitVec 32 := Scalar.muli v3275 c8_i32_1374
  let v3277 : BitVec 32 := v3276
  let v3278 : Index := Scalar.indexCast v3277
  let c0_1375 : Index := 0#32
  ![v3278.toNat, 0]
def k0_off1890 (v3273 : BitVec 32) : Fin 2 → Nat :=
  let c3_i32_1372 : BitVec 32 := 3#32
  let v3274 : BitVec 32 := Scalar.shrsi v3273 c3_i32_1372
  let c8191_i32_1373 : BitVec 32 := 8191#32
  let v3275 : BitVec 32 := Scalar.andi v3274 c8191_i32_1373
  let v3283 : Index := Scalar.indexCast v3275
  let c0_1377 : Index := 0#32
  ![v3283.toNat, 0]

def k0_chk707 (i : grid0.Coords) (v48 : BitVec 32) (v3273 : BitVec 32) : Prop :=
  (∀ (k0_h10 : k0_cond10 i v48 = 1#1), 8 ∣ (k0_mult701 v3273).toNat) ∧
  (∀ (k0_h10 : k0_cond10 i v48 = 1#1), ∀ a, (k0_off1889 v3273) a + S8x128.size a ≤ S65536x128.size a) ∧
  (∀ (k0_h10 : k0_cond10 i v48 = 1#1), ∀ a, (k0_off1890 v3273) a + S1x128.size a ≤ S8192x128.size a)
theorem k0_mult701_dvd : ∀ (i : grid0.Coords) (v48 : BitVec 32) (v3273 : BitVec 32) (k0_hw707 : k0_chk707 i v48 v3273), ∀ (k0_h10 : k0_cond10 i v48 = 1#1), 8 ∣ (k0_mult701 v3273).toNat := fun i v48 v3273 k0_hw707 k0_h10 => k0_hw707.1 k0_h10
theorem k0_off1889_inb : ∀ (i : grid0.Coords) (v48 : BitVec 32) (v3273 : BitVec 32) (k0_hw707 : k0_chk707 i v48 v3273), ∀ (k0_h10 : k0_cond10 i v48 = 1#1), ∀ a, (k0_off1889 v3273) a + S8x128.size a ≤ S65536x128.size a := fun i v48 v3273 k0_hw707 k0_h10 => k0_hw707.2.1 k0_h10
theorem k0_off1890_inb : ∀ (i : grid0.Coords) (v48 : BitVec 32) (v3273 : BitVec 32) (k0_hw707 : k0_chk707 i v48 v3273), ∀ (k0_h10 : k0_cond10 i v48 = 1#1), ∀ a, (k0_off1890 v3273) a + S1x128.size a ≤ S8192x128.size a := fun i v48 v3273 k0_hw707 k0_h10 => k0_hw707.2.2 k0_h10

def k0_off1891 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c189_i32 : BitVec 32 := 189#32
  let v3288 : BitVec 32 := Scalar.addi v74 c189_i32
  let v3289 : Index := Scalar.indexCast v3288
  ![v3289.toNat]
def k0_mult702 (v3290 : BitVec 32) : BitVec 32 :=
  let c3_i32_1379 : BitVec 32 := 3#32
  let v3291 : BitVec 32 := Scalar.shrsi v3290 c3_i32_1379
  let c8191_i32_1380 : BitVec 32 := 8191#32
  let v3292 : BitVec 32 := Scalar.andi v3291 c8191_i32_1380
  let c8_i32_1381 : BitVec 32 := 8#32
  let v3293 : BitVec 32 := Scalar.muli v3292 c8_i32_1381
  v3293

def k0_off1892 (v3290 : BitVec 32) : Fin 2 → Nat :=
  let c3_i32_1379 : BitVec 32 := 3#32
  let v3291 : BitVec 32 := Scalar.shrsi v3290 c3_i32_1379
  let c8191_i32_1380 : BitVec 32 := 8191#32
  let v3292 : BitVec 32 := Scalar.andi v3291 c8191_i32_1380
  let c8_i32_1381 : BitVec 32 := 8#32
  let v3293 : BitVec 32 := Scalar.muli v3292 c8_i32_1381
  let v3294 : BitVec 32 := v3293
  let v3295 : Index := Scalar.indexCast v3294
  let c0_1382 : Index := 0#32
  ![v3295.toNat, 0]
def k0_off1893 (v3290 : BitVec 32) : Fin 2 → Nat :=
  let c3_i32_1379 : BitVec 32 := 3#32
  let v3291 : BitVec 32 := Scalar.shrsi v3290 c3_i32_1379
  let c8191_i32_1380 : BitVec 32 := 8191#32
  let v3292 : BitVec 32 := Scalar.andi v3291 c8191_i32_1380
  let v3300 : Index := Scalar.indexCast v3292
  let c0_1384 : Index := 0#32
  ![v3300.toNat, 0]

def k0_chk708 (i : grid0.Coords) (v48 : BitVec 32) (v3290 : BitVec 32) : Prop :=
  (∀ (k0_h10 : k0_cond10 i v48 = 1#1), 8 ∣ (k0_mult702 v3290).toNat) ∧
  (∀ (k0_h10 : k0_cond10 i v48 = 1#1), ∀ a, (k0_off1892 v3290) a + S8x128.size a ≤ S65536x128.size a) ∧
  (∀ (k0_h10 : k0_cond10 i v48 = 1#1), ∀ a, (k0_off1893 v3290) a + S1x128.size a ≤ S8192x128.size a)
theorem k0_mult702_dvd : ∀ (i : grid0.Coords) (v48 : BitVec 32) (v3290 : BitVec 32) (k0_hw708 : k0_chk708 i v48 v3290), ∀ (k0_h10 : k0_cond10 i v48 = 1#1), 8 ∣ (k0_mult702 v3290).toNat := fun i v48 v3290 k0_hw708 k0_h10 => k0_hw708.1 k0_h10
theorem k0_off1892_inb : ∀ (i : grid0.Coords) (v48 : BitVec 32) (v3290 : BitVec 32) (k0_hw708 : k0_chk708 i v48 v3290), ∀ (k0_h10 : k0_cond10 i v48 = 1#1), ∀ a, (k0_off1892 v3290) a + S8x128.size a ≤ S65536x128.size a := fun i v48 v3290 k0_hw708 k0_h10 => k0_hw708.2.1 k0_h10
theorem k0_off1893_inb : ∀ (i : grid0.Coords) (v48 : BitVec 32) (v3290 : BitVec 32) (k0_hw708 : k0_chk708 i v48 v3290), ∀ (k0_h10 : k0_cond10 i v48 = 1#1), ∀ a, (k0_off1893 v3290) a + S1x128.size a ≤ S8192x128.size a := fun i v48 v3290 k0_hw708 k0_h10 => k0_hw708.2.2 k0_h10

def k0_off1894 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c190_i32 : BitVec 32 := 190#32
  let v3305 : BitVec 32 := Scalar.addi v74 c190_i32
  let v3306 : Index := Scalar.indexCast v3305
  ![v3306.toNat]
def k0_mult703 (v3307 : BitVec 32) : BitVec 32 :=
  let c3_i32_1386 : BitVec 32 := 3#32
  let v3308 : BitVec 32 := Scalar.shrsi v3307 c3_i32_1386
  let c8191_i32_1387 : BitVec 32 := 8191#32
  let v3309 : BitVec 32 := Scalar.andi v3308 c8191_i32_1387
  let c8_i32_1388 : BitVec 32 := 8#32
  let v3310 : BitVec 32 := Scalar.muli v3309 c8_i32_1388
  v3310

def k0_off1895 (v3307 : BitVec 32) : Fin 2 → Nat :=
  let c3_i32_1386 : BitVec 32 := 3#32
  let v3308 : BitVec 32 := Scalar.shrsi v3307 c3_i32_1386
  let c8191_i32_1387 : BitVec 32 := 8191#32
  let v3309 : BitVec 32 := Scalar.andi v3308 c8191_i32_1387
  let c8_i32_1388 : BitVec 32 := 8#32
  let v3310 : BitVec 32 := Scalar.muli v3309 c8_i32_1388
  let v3311 : BitVec 32 := v3310
  let v3312 : Index := Scalar.indexCast v3311
  let c0_1389 : Index := 0#32
  ![v3312.toNat, 0]
def k0_off1896 (v3307 : BitVec 32) : Fin 2 → Nat :=
  let c3_i32_1386 : BitVec 32 := 3#32
  let v3308 : BitVec 32 := Scalar.shrsi v3307 c3_i32_1386
  let c8191_i32_1387 : BitVec 32 := 8191#32
  let v3309 : BitVec 32 := Scalar.andi v3308 c8191_i32_1387
  let v3317 : Index := Scalar.indexCast v3309
  let c0_1391 : Index := 0#32
  ![v3317.toNat, 0]

def k0_chk709 (i : grid0.Coords) (v48 : BitVec 32) (v3307 : BitVec 32) : Prop :=
  (∀ (k0_h10 : k0_cond10 i v48 = 1#1), 8 ∣ (k0_mult703 v3307).toNat) ∧
  (∀ (k0_h10 : k0_cond10 i v48 = 1#1), ∀ a, (k0_off1895 v3307) a + S8x128.size a ≤ S65536x128.size a) ∧
  (∀ (k0_h10 : k0_cond10 i v48 = 1#1), ∀ a, (k0_off1896 v3307) a + S1x128.size a ≤ S8192x128.size a)
theorem k0_mult703_dvd : ∀ (i : grid0.Coords) (v48 : BitVec 32) (v3307 : BitVec 32) (k0_hw709 : k0_chk709 i v48 v3307), ∀ (k0_h10 : k0_cond10 i v48 = 1#1), 8 ∣ (k0_mult703 v3307).toNat := fun i v48 v3307 k0_hw709 k0_h10 => k0_hw709.1 k0_h10
theorem k0_off1895_inb : ∀ (i : grid0.Coords) (v48 : BitVec 32) (v3307 : BitVec 32) (k0_hw709 : k0_chk709 i v48 v3307), ∀ (k0_h10 : k0_cond10 i v48 = 1#1), ∀ a, (k0_off1895 v3307) a + S8x128.size a ≤ S65536x128.size a := fun i v48 v3307 k0_hw709 k0_h10 => k0_hw709.2.1 k0_h10
theorem k0_off1896_inb : ∀ (i : grid0.Coords) (v48 : BitVec 32) (v3307 : BitVec 32) (k0_hw709 : k0_chk709 i v48 v3307), ∀ (k0_h10 : k0_cond10 i v48 = 1#1), ∀ a, (k0_off1896 v3307) a + S1x128.size a ≤ S8192x128.size a := fun i v48 v3307 k0_hw709 k0_h10 => k0_hw709.2.2 k0_h10

def k0_off1897 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c191_i32 : BitVec 32 := 191#32
  let v3322 : BitVec 32 := Scalar.addi v74 c191_i32
  let v3323 : Index := Scalar.indexCast v3322
  ![v3323.toNat]
def k0_mult704 (v3324 : BitVec 32) : BitVec 32 :=
  let c3_i32_1393 : BitVec 32 := 3#32
  let v3325 : BitVec 32 := Scalar.shrsi v3324 c3_i32_1393
  let c8191_i32_1394 : BitVec 32 := 8191#32
  let v3326 : BitVec 32 := Scalar.andi v3325 c8191_i32_1394
  let c8_i32_1395 : BitVec 32 := 8#32
  let v3327 : BitVec 32 := Scalar.muli v3326 c8_i32_1395
  v3327

def k0_off1898 (v3324 : BitVec 32) : Fin 2 → Nat :=
  let c3_i32_1393 : BitVec 32 := 3#32
  let v3325 : BitVec 32 := Scalar.shrsi v3324 c3_i32_1393
  let c8191_i32_1394 : BitVec 32 := 8191#32
  let v3326 : BitVec 32 := Scalar.andi v3325 c8191_i32_1394
  let c8_i32_1395 : BitVec 32 := 8#32
  let v3327 : BitVec 32 := Scalar.muli v3326 c8_i32_1395
  let v3328 : BitVec 32 := v3327
  let v3329 : Index := Scalar.indexCast v3328
  let c0_1396 : Index := 0#32
  ![v3329.toNat, 0]
def k0_off1899 (v3324 : BitVec 32) : Fin 2 → Nat :=
  let c3_i32_1393 : BitVec 32 := 3#32
  let v3325 : BitVec 32 := Scalar.shrsi v3324 c3_i32_1393
  let c8191_i32_1394 : BitVec 32 := 8191#32
  let v3326 : BitVec 32 := Scalar.andi v3325 c8191_i32_1394
  let v3334 : Index := Scalar.indexCast v3326
  let c0_1398 : Index := 0#32
  ![v3334.toNat, 0]

def k0_chk710 (i : grid0.Coords) (v48 : BitVec 32) (v3324 : BitVec 32) : Prop :=
  (∀ (k0_h10 : k0_cond10 i v48 = 1#1), 8 ∣ (k0_mult704 v3324).toNat) ∧
  (∀ (k0_h10 : k0_cond10 i v48 = 1#1), ∀ a, (k0_off1898 v3324) a + S8x128.size a ≤ S65536x128.size a) ∧
  (∀ (k0_h10 : k0_cond10 i v48 = 1#1), ∀ a, (k0_off1899 v3324) a + S1x128.size a ≤ S8192x128.size a)
theorem k0_mult704_dvd : ∀ (i : grid0.Coords) (v48 : BitVec 32) (v3324 : BitVec 32) (k0_hw710 : k0_chk710 i v48 v3324), ∀ (k0_h10 : k0_cond10 i v48 = 1#1), 8 ∣ (k0_mult704 v3324).toNat := fun i v48 v3324 k0_hw710 k0_h10 => k0_hw710.1 k0_h10
theorem k0_off1898_inb : ∀ (i : grid0.Coords) (v48 : BitVec 32) (v3324 : BitVec 32) (k0_hw710 : k0_chk710 i v48 v3324), ∀ (k0_h10 : k0_cond10 i v48 = 1#1), ∀ a, (k0_off1898 v3324) a + S8x128.size a ≤ S65536x128.size a := fun i v48 v3324 k0_hw710 k0_h10 => k0_hw710.2.1 k0_h10
theorem k0_off1899_inb : ∀ (i : grid0.Coords) (v48 : BitVec 32) (v3324 : BitVec 32) (k0_hw710 : k0_chk710 i v48 v3324), ∀ (k0_h10 : k0_cond10 i v48 = 1#1), ∀ a, (k0_off1899 v3324) a + S1x128.size a ≤ S8192x128.size a := fun i v48 v3324 k0_hw710 k0_h10 => k0_hw710.2.2 k0_h10

def k0_off1900 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c192_i32 : BitVec 32 := 192#32
  let v3339 : BitVec 32 := Scalar.addi v74 c192_i32
  let v3340 : Index := Scalar.indexCast v3339
  ![v3340.toNat]
def k0_mult705 (v3341 : BitVec 32) : BitVec 32 :=
  let c3_i32_1400 : BitVec 32 := 3#32
  let v3342 : BitVec 32 := Scalar.shrsi v3341 c3_i32_1400
  let c8191_i32_1401 : BitVec 32 := 8191#32
  let v3343 : BitVec 32 := Scalar.andi v3342 c8191_i32_1401
  let c8_i32_1402 : BitVec 32 := 8#32
  let v3344 : BitVec 32 := Scalar.muli v3343 c8_i32_1402
  v3344

def k0_off1901 (v3341 : BitVec 32) : Fin 2 → Nat :=
  let c3_i32_1400 : BitVec 32 := 3#32
  let v3342 : BitVec 32 := Scalar.shrsi v3341 c3_i32_1400
  let c8191_i32_1401 : BitVec 32 := 8191#32
  let v3343 : BitVec 32 := Scalar.andi v3342 c8191_i32_1401
  let c8_i32_1402 : BitVec 32 := 8#32
  let v3344 : BitVec 32 := Scalar.muli v3343 c8_i32_1402
  let v3345 : BitVec 32 := v3344
  let v3346 : Index := Scalar.indexCast v3345
  let c0_1403 : Index := 0#32
  ![v3346.toNat, 0]
def k0_off1902 (v3341 : BitVec 32) : Fin 2 → Nat :=
  let c3_i32_1400 : BitVec 32 := 3#32
  let v3342 : BitVec 32 := Scalar.shrsi v3341 c3_i32_1400
  let c8191_i32_1401 : BitVec 32 := 8191#32
  let v3343 : BitVec 32 := Scalar.andi v3342 c8191_i32_1401
  let v3351 : Index := Scalar.indexCast v3343
  let c0_1405 : Index := 0#32
  ![v3351.toNat, 0]

def k0_chk711 (i : grid0.Coords) (v48 : BitVec 32) (v3341 : BitVec 32) : Prop :=
  (∀ (k0_h10 : k0_cond10 i v48 = 1#1), 8 ∣ (k0_mult705 v3341).toNat) ∧
  (∀ (k0_h10 : k0_cond10 i v48 = 1#1), ∀ a, (k0_off1901 v3341) a + S8x128.size a ≤ S65536x128.size a) ∧
  (∀ (k0_h10 : k0_cond10 i v48 = 1#1), ∀ a, (k0_off1902 v3341) a + S1x128.size a ≤ S8192x128.size a)
theorem k0_mult705_dvd : ∀ (i : grid0.Coords) (v48 : BitVec 32) (v3341 : BitVec 32) (k0_hw711 : k0_chk711 i v48 v3341), ∀ (k0_h10 : k0_cond10 i v48 = 1#1), 8 ∣ (k0_mult705 v3341).toNat := fun i v48 v3341 k0_hw711 k0_h10 => k0_hw711.1 k0_h10
theorem k0_off1901_inb : ∀ (i : grid0.Coords) (v48 : BitVec 32) (v3341 : BitVec 32) (k0_hw711 : k0_chk711 i v48 v3341), ∀ (k0_h10 : k0_cond10 i v48 = 1#1), ∀ a, (k0_off1901 v3341) a + S8x128.size a ≤ S65536x128.size a := fun i v48 v3341 k0_hw711 k0_h10 => k0_hw711.2.1 k0_h10
theorem k0_off1902_inb : ∀ (i : grid0.Coords) (v48 : BitVec 32) (v3341 : BitVec 32) (k0_hw711 : k0_chk711 i v48 v3341), ∀ (k0_h10 : k0_cond10 i v48 = 1#1), ∀ a, (k0_off1902 v3341) a + S1x128.size a ≤ S8192x128.size a := fun i v48 v3341 k0_hw711 k0_h10 => k0_hw711.2.2 k0_h10

def k0_off1903 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c193_i32 : BitVec 32 := 193#32
  let v3356 : BitVec 32 := Scalar.addi v74 c193_i32
  let v3357 : Index := Scalar.indexCast v3356
  ![v3357.toNat]
def k0_mult706 (v3358 : BitVec 32) : BitVec 32 :=
  let c3_i32_1408 : BitVec 32 := 3#32
  let v3359 : BitVec 32 := Scalar.shrsi v3358 c3_i32_1408
  let c8191_i32_1409 : BitVec 32 := 8191#32
  let v3360 : BitVec 32 := Scalar.andi v3359 c8191_i32_1409
  let c8_i32_1410 : BitVec 32 := 8#32
  let v3361 : BitVec 32 := Scalar.muli v3360 c8_i32_1410
  v3361

def k0_off1904 (v3358 : BitVec 32) : Fin 2 → Nat :=
  let c3_i32_1408 : BitVec 32 := 3#32
  let v3359 : BitVec 32 := Scalar.shrsi v3358 c3_i32_1408
  let c8191_i32_1409 : BitVec 32 := 8191#32
  let v3360 : BitVec 32 := Scalar.andi v3359 c8191_i32_1409
  let c8_i32_1410 : BitVec 32 := 8#32
  let v3361 : BitVec 32 := Scalar.muli v3360 c8_i32_1410
  let v3362 : BitVec 32 := v3361
  let v3363 : Index := Scalar.indexCast v3362
  let c0_1411 : Index := 0#32
  ![v3363.toNat, 0]
def k0_off1905 (v3358 : BitVec 32) : Fin 2 → Nat :=
  let c3_i32_1408 : BitVec 32 := 3#32
  let v3359 : BitVec 32 := Scalar.shrsi v3358 c3_i32_1408
  let c8191_i32_1409 : BitVec 32 := 8191#32
  let v3360 : BitVec 32 := Scalar.andi v3359 c8191_i32_1409
  let v3368 : Index := Scalar.indexCast v3360
  let c0_1413 : Index := 0#32
  ![v3368.toNat, 0]

def k0_chk712 (i : grid0.Coords) (v48 : BitVec 32) (v3358 : BitVec 32) : Prop :=
  (∀ (k0_h10 : k0_cond10 i v48 = 1#1), 8 ∣ (k0_mult706 v3358).toNat) ∧
  (∀ (k0_h10 : k0_cond10 i v48 = 1#1), ∀ a, (k0_off1904 v3358) a + S8x128.size a ≤ S65536x128.size a) ∧
  (∀ (k0_h10 : k0_cond10 i v48 = 1#1), ∀ a, (k0_off1905 v3358) a + S1x128.size a ≤ S8192x128.size a)
theorem k0_mult706_dvd : ∀ (i : grid0.Coords) (v48 : BitVec 32) (v3358 : BitVec 32) (k0_hw712 : k0_chk712 i v48 v3358), ∀ (k0_h10 : k0_cond10 i v48 = 1#1), 8 ∣ (k0_mult706 v3358).toNat := fun i v48 v3358 k0_hw712 k0_h10 => k0_hw712.1 k0_h10
theorem k0_off1904_inb : ∀ (i : grid0.Coords) (v48 : BitVec 32) (v3358 : BitVec 32) (k0_hw712 : k0_chk712 i v48 v3358), ∀ (k0_h10 : k0_cond10 i v48 = 1#1), ∀ a, (k0_off1904 v3358) a + S8x128.size a ≤ S65536x128.size a := fun i v48 v3358 k0_hw712 k0_h10 => k0_hw712.2.1 k0_h10
theorem k0_off1905_inb : ∀ (i : grid0.Coords) (v48 : BitVec 32) (v3358 : BitVec 32) (k0_hw712 : k0_chk712 i v48 v3358), ∀ (k0_h10 : k0_cond10 i v48 = 1#1), ∀ a, (k0_off1905 v3358) a + S1x128.size a ≤ S8192x128.size a := fun i v48 v3358 k0_hw712 k0_h10 => k0_hw712.2.2 k0_h10

def k0_off1906 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c194_i32 : BitVec 32 := 194#32
  let v3373 : BitVec 32 := Scalar.addi v74 c194_i32
  let v3374 : Index := Scalar.indexCast v3373
  ![v3374.toNat]
def k0_mult707 (v3375 : BitVec 32) : BitVec 32 :=
  let c3_i32_1415 : BitVec 32 := 3#32
  let v3376 : BitVec 32 := Scalar.shrsi v3375 c3_i32_1415
  let c8191_i32_1416 : BitVec 32 := 8191#32
  let v3377 : BitVec 32 := Scalar.andi v3376 c8191_i32_1416
  let c8_i32_1417 : BitVec 32 := 8#32
  let v3378 : BitVec 32 := Scalar.muli v3377 c8_i32_1417
  v3378

def k0_off1907 (v3375 : BitVec 32) : Fin 2 → Nat :=
  let c3_i32_1415 : BitVec 32 := 3#32
  let v3376 : BitVec 32 := Scalar.shrsi v3375 c3_i32_1415
  let c8191_i32_1416 : BitVec 32 := 8191#32
  let v3377 : BitVec 32 := Scalar.andi v3376 c8191_i32_1416
  let c8_i32_1417 : BitVec 32 := 8#32
  let v3378 : BitVec 32 := Scalar.muli v3377 c8_i32_1417
  let v3379 : BitVec 32 := v3378
  let v3380 : Index := Scalar.indexCast v3379
  let c0_1418 : Index := 0#32
  ![v3380.toNat, 0]
def k0_off1908 (v3375 : BitVec 32) : Fin 2 → Nat :=
  let c3_i32_1415 : BitVec 32 := 3#32
  let v3376 : BitVec 32 := Scalar.shrsi v3375 c3_i32_1415
  let c8191_i32_1416 : BitVec 32 := 8191#32
  let v3377 : BitVec 32 := Scalar.andi v3376 c8191_i32_1416
  let v3385 : Index := Scalar.indexCast v3377
  let c0_1420 : Index := 0#32
  ![v3385.toNat, 0]

def k0_chk713 (i : grid0.Coords) (v48 : BitVec 32) (v3375 : BitVec 32) : Prop :=
  (∀ (k0_h10 : k0_cond10 i v48 = 1#1), 8 ∣ (k0_mult707 v3375).toNat) ∧
  (∀ (k0_h10 : k0_cond10 i v48 = 1#1), ∀ a, (k0_off1907 v3375) a + S8x128.size a ≤ S65536x128.size a) ∧
  (∀ (k0_h10 : k0_cond10 i v48 = 1#1), ∀ a, (k0_off1908 v3375) a + S1x128.size a ≤ S8192x128.size a)
theorem k0_mult707_dvd : ∀ (i : grid0.Coords) (v48 : BitVec 32) (v3375 : BitVec 32) (k0_hw713 : k0_chk713 i v48 v3375), ∀ (k0_h10 : k0_cond10 i v48 = 1#1), 8 ∣ (k0_mult707 v3375).toNat := fun i v48 v3375 k0_hw713 k0_h10 => k0_hw713.1 k0_h10
theorem k0_off1907_inb : ∀ (i : grid0.Coords) (v48 : BitVec 32) (v3375 : BitVec 32) (k0_hw713 : k0_chk713 i v48 v3375), ∀ (k0_h10 : k0_cond10 i v48 = 1#1), ∀ a, (k0_off1907 v3375) a + S8x128.size a ≤ S65536x128.size a := fun i v48 v3375 k0_hw713 k0_h10 => k0_hw713.2.1 k0_h10
theorem k0_off1908_inb : ∀ (i : grid0.Coords) (v48 : BitVec 32) (v3375 : BitVec 32) (k0_hw713 : k0_chk713 i v48 v3375), ∀ (k0_h10 : k0_cond10 i v48 = 1#1), ∀ a, (k0_off1908 v3375) a + S1x128.size a ≤ S8192x128.size a := fun i v48 v3375 k0_hw713 k0_h10 => k0_hw713.2.2 k0_h10

def k0_off1909 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c195_i32 : BitVec 32 := 195#32
  let v3390 : BitVec 32 := Scalar.addi v74 c195_i32
  let v3391 : Index := Scalar.indexCast v3390
  ![v3391.toNat]
def k0_mult708 (v3392 : BitVec 32) : BitVec 32 :=
  let c3_i32_1422 : BitVec 32 := 3#32
  let v3393 : BitVec 32 := Scalar.shrsi v3392 c3_i32_1422
  let c8191_i32_1423 : BitVec 32 := 8191#32
  let v3394 : BitVec 32 := Scalar.andi v3393 c8191_i32_1423
  let c8_i32_1424 : BitVec 32 := 8#32
  let v3395 : BitVec 32 := Scalar.muli v3394 c8_i32_1424
  v3395

def k0_off1910 (v3392 : BitVec 32) : Fin 2 → Nat :=
  let c3_i32_1422 : BitVec 32 := 3#32
  let v3393 : BitVec 32 := Scalar.shrsi v3392 c3_i32_1422
  let c8191_i32_1423 : BitVec 32 := 8191#32
  let v3394 : BitVec 32 := Scalar.andi v3393 c8191_i32_1423
  let c8_i32_1424 : BitVec 32 := 8#32
  let v3395 : BitVec 32 := Scalar.muli v3394 c8_i32_1424
  let v3396 : BitVec 32 := v3395
  let v3397 : Index := Scalar.indexCast v3396
  let c0_1425 : Index := 0#32
  ![v3397.toNat, 0]
def k0_off1911 (v3392 : BitVec 32) : Fin 2 → Nat :=
  let c3_i32_1422 : BitVec 32 := 3#32
  let v3393 : BitVec 32 := Scalar.shrsi v3392 c3_i32_1422
  let c8191_i32_1423 : BitVec 32 := 8191#32
  let v3394 : BitVec 32 := Scalar.andi v3393 c8191_i32_1423
  let v3402 : Index := Scalar.indexCast v3394
  let c0_1427 : Index := 0#32
  ![v3402.toNat, 0]

def k0_chk714 (i : grid0.Coords) (v48 : BitVec 32) (v3392 : BitVec 32) : Prop :=
  (∀ (k0_h10 : k0_cond10 i v48 = 1#1), 8 ∣ (k0_mult708 v3392).toNat) ∧
  (∀ (k0_h10 : k0_cond10 i v48 = 1#1), ∀ a, (k0_off1910 v3392) a + S8x128.size a ≤ S65536x128.size a) ∧
  (∀ (k0_h10 : k0_cond10 i v48 = 1#1), ∀ a, (k0_off1911 v3392) a + S1x128.size a ≤ S8192x128.size a)
theorem k0_mult708_dvd : ∀ (i : grid0.Coords) (v48 : BitVec 32) (v3392 : BitVec 32) (k0_hw714 : k0_chk714 i v48 v3392), ∀ (k0_h10 : k0_cond10 i v48 = 1#1), 8 ∣ (k0_mult708 v3392).toNat := fun i v48 v3392 k0_hw714 k0_h10 => k0_hw714.1 k0_h10
theorem k0_off1910_inb : ∀ (i : grid0.Coords) (v48 : BitVec 32) (v3392 : BitVec 32) (k0_hw714 : k0_chk714 i v48 v3392), ∀ (k0_h10 : k0_cond10 i v48 = 1#1), ∀ a, (k0_off1910 v3392) a + S8x128.size a ≤ S65536x128.size a := fun i v48 v3392 k0_hw714 k0_h10 => k0_hw714.2.1 k0_h10
theorem k0_off1911_inb : ∀ (i : grid0.Coords) (v48 : BitVec 32) (v3392 : BitVec 32) (k0_hw714 : k0_chk714 i v48 v3392), ∀ (k0_h10 : k0_cond10 i v48 = 1#1), ∀ a, (k0_off1911 v3392) a + S1x128.size a ≤ S8192x128.size a := fun i v48 v3392 k0_hw714 k0_h10 => k0_hw714.2.2 k0_h10

def k0_off1912 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c196_i32 : BitVec 32 := 196#32
  let v3407 : BitVec 32 := Scalar.addi v74 c196_i32
  let v3408 : Index := Scalar.indexCast v3407
  ![v3408.toNat]
def k0_mult709 (v3409 : BitVec 32) : BitVec 32 :=
  let c3_i32_1429 : BitVec 32 := 3#32
  let v3410 : BitVec 32 := Scalar.shrsi v3409 c3_i32_1429
  let c8191_i32_1430 : BitVec 32 := 8191#32
  let v3411 : BitVec 32 := Scalar.andi v3410 c8191_i32_1430
  let c8_i32_1431 : BitVec 32 := 8#32
  let v3412 : BitVec 32 := Scalar.muli v3411 c8_i32_1431
  v3412

def k0_off1913 (v3409 : BitVec 32) : Fin 2 → Nat :=
  let c3_i32_1429 : BitVec 32 := 3#32
  let v3410 : BitVec 32 := Scalar.shrsi v3409 c3_i32_1429
  let c8191_i32_1430 : BitVec 32 := 8191#32
  let v3411 : BitVec 32 := Scalar.andi v3410 c8191_i32_1430
  let c8_i32_1431 : BitVec 32 := 8#32
  let v3412 : BitVec 32 := Scalar.muli v3411 c8_i32_1431
  let v3413 : BitVec 32 := v3412
  let v3414 : Index := Scalar.indexCast v3413
  let c0_1432 : Index := 0#32
  ![v3414.toNat, 0]
def k0_off1914 (v3409 : BitVec 32) : Fin 2 → Nat :=
  let c3_i32_1429 : BitVec 32 := 3#32
  let v3410 : BitVec 32 := Scalar.shrsi v3409 c3_i32_1429
  let c8191_i32_1430 : BitVec 32 := 8191#32
  let v3411 : BitVec 32 := Scalar.andi v3410 c8191_i32_1430
  let v3419 : Index := Scalar.indexCast v3411
  let c0_1434 : Index := 0#32
  ![v3419.toNat, 0]

def k0_chk715 (i : grid0.Coords) (v48 : BitVec 32) (v3409 : BitVec 32) : Prop :=
  (∀ (k0_h10 : k0_cond10 i v48 = 1#1), 8 ∣ (k0_mult709 v3409).toNat) ∧
  (∀ (k0_h10 : k0_cond10 i v48 = 1#1), ∀ a, (k0_off1913 v3409) a + S8x128.size a ≤ S65536x128.size a) ∧
  (∀ (k0_h10 : k0_cond10 i v48 = 1#1), ∀ a, (k0_off1914 v3409) a + S1x128.size a ≤ S8192x128.size a)
theorem k0_mult709_dvd : ∀ (i : grid0.Coords) (v48 : BitVec 32) (v3409 : BitVec 32) (k0_hw715 : k0_chk715 i v48 v3409), ∀ (k0_h10 : k0_cond10 i v48 = 1#1), 8 ∣ (k0_mult709 v3409).toNat := fun i v48 v3409 k0_hw715 k0_h10 => k0_hw715.1 k0_h10
theorem k0_off1913_inb : ∀ (i : grid0.Coords) (v48 : BitVec 32) (v3409 : BitVec 32) (k0_hw715 : k0_chk715 i v48 v3409), ∀ (k0_h10 : k0_cond10 i v48 = 1#1), ∀ a, (k0_off1913 v3409) a + S8x128.size a ≤ S65536x128.size a := fun i v48 v3409 k0_hw715 k0_h10 => k0_hw715.2.1 k0_h10
theorem k0_off1914_inb : ∀ (i : grid0.Coords) (v48 : BitVec 32) (v3409 : BitVec 32) (k0_hw715 : k0_chk715 i v48 v3409), ∀ (k0_h10 : k0_cond10 i v48 = 1#1), ∀ a, (k0_off1914 v3409) a + S1x128.size a ≤ S8192x128.size a := fun i v48 v3409 k0_hw715 k0_h10 => k0_hw715.2.2 k0_h10

def k0_off1915 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c197_i32 : BitVec 32 := 197#32
  let v3424 : BitVec 32 := Scalar.addi v74 c197_i32
  let v3425 : Index := Scalar.indexCast v3424
  ![v3425.toNat]
def k0_mult710 (v3426 : BitVec 32) : BitVec 32 :=
  let c3_i32_1436 : BitVec 32 := 3#32
  let v3427 : BitVec 32 := Scalar.shrsi v3426 c3_i32_1436
  let c8191_i32_1437 : BitVec 32 := 8191#32
  let v3428 : BitVec 32 := Scalar.andi v3427 c8191_i32_1437
  let c8_i32_1438 : BitVec 32 := 8#32
  let v3429 : BitVec 32 := Scalar.muli v3428 c8_i32_1438
  v3429

def k0_off1916 (v3426 : BitVec 32) : Fin 2 → Nat :=
  let c3_i32_1436 : BitVec 32 := 3#32
  let v3427 : BitVec 32 := Scalar.shrsi v3426 c3_i32_1436
  let c8191_i32_1437 : BitVec 32 := 8191#32
  let v3428 : BitVec 32 := Scalar.andi v3427 c8191_i32_1437
  let c8_i32_1438 : BitVec 32 := 8#32
  let v3429 : BitVec 32 := Scalar.muli v3428 c8_i32_1438
  let v3430 : BitVec 32 := v3429
  let v3431 : Index := Scalar.indexCast v3430
  let c0_1439 : Index := 0#32
  ![v3431.toNat, 0]
def k0_off1917 (v3426 : BitVec 32) : Fin 2 → Nat :=
  let c3_i32_1436 : BitVec 32 := 3#32
  let v3427 : BitVec 32 := Scalar.shrsi v3426 c3_i32_1436
  let c8191_i32_1437 : BitVec 32 := 8191#32
  let v3428 : BitVec 32 := Scalar.andi v3427 c8191_i32_1437
  let v3436 : Index := Scalar.indexCast v3428
  let c0_1441 : Index := 0#32
  ![v3436.toNat, 0]

def k0_chk716 (i : grid0.Coords) (v48 : BitVec 32) (v3426 : BitVec 32) : Prop :=
  (∀ (k0_h10 : k0_cond10 i v48 = 1#1), 8 ∣ (k0_mult710 v3426).toNat) ∧
  (∀ (k0_h10 : k0_cond10 i v48 = 1#1), ∀ a, (k0_off1916 v3426) a + S8x128.size a ≤ S65536x128.size a) ∧
  (∀ (k0_h10 : k0_cond10 i v48 = 1#1), ∀ a, (k0_off1917 v3426) a + S1x128.size a ≤ S8192x128.size a)
theorem k0_mult710_dvd : ∀ (i : grid0.Coords) (v48 : BitVec 32) (v3426 : BitVec 32) (k0_hw716 : k0_chk716 i v48 v3426), ∀ (k0_h10 : k0_cond10 i v48 = 1#1), 8 ∣ (k0_mult710 v3426).toNat := fun i v48 v3426 k0_hw716 k0_h10 => k0_hw716.1 k0_h10
theorem k0_off1916_inb : ∀ (i : grid0.Coords) (v48 : BitVec 32) (v3426 : BitVec 32) (k0_hw716 : k0_chk716 i v48 v3426), ∀ (k0_h10 : k0_cond10 i v48 = 1#1), ∀ a, (k0_off1916 v3426) a + S8x128.size a ≤ S65536x128.size a := fun i v48 v3426 k0_hw716 k0_h10 => k0_hw716.2.1 k0_h10
theorem k0_off1917_inb : ∀ (i : grid0.Coords) (v48 : BitVec 32) (v3426 : BitVec 32) (k0_hw716 : k0_chk716 i v48 v3426), ∀ (k0_h10 : k0_cond10 i v48 = 1#1), ∀ a, (k0_off1917 v3426) a + S1x128.size a ≤ S8192x128.size a := fun i v48 v3426 k0_hw716 k0_h10 => k0_hw716.2.2 k0_h10

def k0_off1918 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c198_i32 : BitVec 32 := 198#32
  let v3441 : BitVec 32 := Scalar.addi v74 c198_i32
  let v3442 : Index := Scalar.indexCast v3441
  ![v3442.toNat]
def k0_mult711 (v3443 : BitVec 32) : BitVec 32 :=
  let c3_i32_1443 : BitVec 32 := 3#32
  let v3444 : BitVec 32 := Scalar.shrsi v3443 c3_i32_1443
  let c8191_i32_1444 : BitVec 32 := 8191#32
  let v3445 : BitVec 32 := Scalar.andi v3444 c8191_i32_1444
  let c8_i32_1445 : BitVec 32 := 8#32
  let v3446 : BitVec 32 := Scalar.muli v3445 c8_i32_1445
  v3446

def k0_off1919 (v3443 : BitVec 32) : Fin 2 → Nat :=
  let c3_i32_1443 : BitVec 32 := 3#32
  let v3444 : BitVec 32 := Scalar.shrsi v3443 c3_i32_1443
  let c8191_i32_1444 : BitVec 32 := 8191#32
  let v3445 : BitVec 32 := Scalar.andi v3444 c8191_i32_1444
  let c8_i32_1445 : BitVec 32 := 8#32
  let v3446 : BitVec 32 := Scalar.muli v3445 c8_i32_1445
  let v3447 : BitVec 32 := v3446
  let v3448 : Index := Scalar.indexCast v3447
  let c0_1446 : Index := 0#32
  ![v3448.toNat, 0]
def k0_off1920 (v3443 : BitVec 32) : Fin 2 → Nat :=
  let c3_i32_1443 : BitVec 32 := 3#32
  let v3444 : BitVec 32 := Scalar.shrsi v3443 c3_i32_1443
  let c8191_i32_1444 : BitVec 32 := 8191#32
  let v3445 : BitVec 32 := Scalar.andi v3444 c8191_i32_1444
  let v3453 : Index := Scalar.indexCast v3445
  let c0_1448 : Index := 0#32
  ![v3453.toNat, 0]

def k0_chk717 (i : grid0.Coords) (v48 : BitVec 32) (v3443 : BitVec 32) : Prop :=
  (∀ (k0_h10 : k0_cond10 i v48 = 1#1), 8 ∣ (k0_mult711 v3443).toNat) ∧
  (∀ (k0_h10 : k0_cond10 i v48 = 1#1), ∀ a, (k0_off1919 v3443) a + S8x128.size a ≤ S65536x128.size a) ∧
  (∀ (k0_h10 : k0_cond10 i v48 = 1#1), ∀ a, (k0_off1920 v3443) a + S1x128.size a ≤ S8192x128.size a)
theorem k0_mult711_dvd : ∀ (i : grid0.Coords) (v48 : BitVec 32) (v3443 : BitVec 32) (k0_hw717 : k0_chk717 i v48 v3443), ∀ (k0_h10 : k0_cond10 i v48 = 1#1), 8 ∣ (k0_mult711 v3443).toNat := fun i v48 v3443 k0_hw717 k0_h10 => k0_hw717.1 k0_h10
theorem k0_off1919_inb : ∀ (i : grid0.Coords) (v48 : BitVec 32) (v3443 : BitVec 32) (k0_hw717 : k0_chk717 i v48 v3443), ∀ (k0_h10 : k0_cond10 i v48 = 1#1), ∀ a, (k0_off1919 v3443) a + S8x128.size a ≤ S65536x128.size a := fun i v48 v3443 k0_hw717 k0_h10 => k0_hw717.2.1 k0_h10
theorem k0_off1920_inb : ∀ (i : grid0.Coords) (v48 : BitVec 32) (v3443 : BitVec 32) (k0_hw717 : k0_chk717 i v48 v3443), ∀ (k0_h10 : k0_cond10 i v48 = 1#1), ∀ a, (k0_off1920 v3443) a + S1x128.size a ≤ S8192x128.size a := fun i v48 v3443 k0_hw717 k0_h10 => k0_hw717.2.2 k0_h10

def k0_off1921 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c199_i32 : BitVec 32 := 199#32
  let v3458 : BitVec 32 := Scalar.addi v74 c199_i32
  let v3459 : Index := Scalar.indexCast v3458
  ![v3459.toNat]
def k0_mult712 (v3460 : BitVec 32) : BitVec 32 :=
  let c3_i32_1450 : BitVec 32 := 3#32
  let v3461 : BitVec 32 := Scalar.shrsi v3460 c3_i32_1450
  let c8191_i32_1451 : BitVec 32 := 8191#32
  let v3462 : BitVec 32 := Scalar.andi v3461 c8191_i32_1451
  let c8_i32_1452 : BitVec 32 := 8#32
  let v3463 : BitVec 32 := Scalar.muli v3462 c8_i32_1452
  v3463

def k0_off1922 (v3460 : BitVec 32) : Fin 2 → Nat :=
  let c3_i32_1450 : BitVec 32 := 3#32
  let v3461 : BitVec 32 := Scalar.shrsi v3460 c3_i32_1450
  let c8191_i32_1451 : BitVec 32 := 8191#32
  let v3462 : BitVec 32 := Scalar.andi v3461 c8191_i32_1451
  let c8_i32_1452 : BitVec 32 := 8#32
  let v3463 : BitVec 32 := Scalar.muli v3462 c8_i32_1452
  let v3464 : BitVec 32 := v3463
  let v3465 : Index := Scalar.indexCast v3464
  let c0_1453 : Index := 0#32
  ![v3465.toNat, 0]
def k0_off1923 (v3460 : BitVec 32) : Fin 2 → Nat :=
  let c3_i32_1450 : BitVec 32 := 3#32
  let v3461 : BitVec 32 := Scalar.shrsi v3460 c3_i32_1450
  let c8191_i32_1451 : BitVec 32 := 8191#32
  let v3462 : BitVec 32 := Scalar.andi v3461 c8191_i32_1451
  let v3470 : Index := Scalar.indexCast v3462
  let c0_1455 : Index := 0#32
  ![v3470.toNat, 0]

def k0_chk718 (i : grid0.Coords) (v48 : BitVec 32) (v3460 : BitVec 32) : Prop :=
  (∀ (k0_h10 : k0_cond10 i v48 = 1#1), 8 ∣ (k0_mult712 v3460).toNat) ∧
  (∀ (k0_h10 : k0_cond10 i v48 = 1#1), ∀ a, (k0_off1922 v3460) a + S8x128.size a ≤ S65536x128.size a) ∧
  (∀ (k0_h10 : k0_cond10 i v48 = 1#1), ∀ a, (k0_off1923 v3460) a + S1x128.size a ≤ S8192x128.size a)
theorem k0_mult712_dvd : ∀ (i : grid0.Coords) (v48 : BitVec 32) (v3460 : BitVec 32) (k0_hw718 : k0_chk718 i v48 v3460), ∀ (k0_h10 : k0_cond10 i v48 = 1#1), 8 ∣ (k0_mult712 v3460).toNat := fun i v48 v3460 k0_hw718 k0_h10 => k0_hw718.1 k0_h10
theorem k0_off1922_inb : ∀ (i : grid0.Coords) (v48 : BitVec 32) (v3460 : BitVec 32) (k0_hw718 : k0_chk718 i v48 v3460), ∀ (k0_h10 : k0_cond10 i v48 = 1#1), ∀ a, (k0_off1922 v3460) a + S8x128.size a ≤ S65536x128.size a := fun i v48 v3460 k0_hw718 k0_h10 => k0_hw718.2.1 k0_h10
theorem k0_off1923_inb : ∀ (i : grid0.Coords) (v48 : BitVec 32) (v3460 : BitVec 32) (k0_hw718 : k0_chk718 i v48 v3460), ∀ (k0_h10 : k0_cond10 i v48 = 1#1), ∀ a, (k0_off1923 v3460) a + S1x128.size a ≤ S8192x128.size a := fun i v48 v3460 k0_hw718 k0_h10 => k0_hw718.2.2 k0_h10

def k0_off1924 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c200_i32 : BitVec 32 := 200#32
  let v3475 : BitVec 32 := Scalar.addi v74 c200_i32
  let v3476 : Index := Scalar.indexCast v3475
  ![v3476.toNat]
def k0_mult713 (v3477 : BitVec 32) : BitVec 32 :=
  let c3_i32_1457 : BitVec 32 := 3#32
  let v3478 : BitVec 32 := Scalar.shrsi v3477 c3_i32_1457
  let c8191_i32_1458 : BitVec 32 := 8191#32
  let v3479 : BitVec 32 := Scalar.andi v3478 c8191_i32_1458
  let c8_i32_1459 : BitVec 32 := 8#32
  let v3480 : BitVec 32 := Scalar.muli v3479 c8_i32_1459
  v3480

def k0_off1925 (v3477 : BitVec 32) : Fin 2 → Nat :=
  let c3_i32_1457 : BitVec 32 := 3#32
  let v3478 : BitVec 32 := Scalar.shrsi v3477 c3_i32_1457
  let c8191_i32_1458 : BitVec 32 := 8191#32
  let v3479 : BitVec 32 := Scalar.andi v3478 c8191_i32_1458
  let c8_i32_1459 : BitVec 32 := 8#32
  let v3480 : BitVec 32 := Scalar.muli v3479 c8_i32_1459
  let v3481 : BitVec 32 := v3480
  let v3482 : Index := Scalar.indexCast v3481
  let c0_1460 : Index := 0#32
  ![v3482.toNat, 0]
def k0_off1926 (v3477 : BitVec 32) : Fin 2 → Nat :=
  let c3_i32_1457 : BitVec 32 := 3#32
  let v3478 : BitVec 32 := Scalar.shrsi v3477 c3_i32_1457
  let c8191_i32_1458 : BitVec 32 := 8191#32
  let v3479 : BitVec 32 := Scalar.andi v3478 c8191_i32_1458
  let v3487 : Index := Scalar.indexCast v3479
  let c0_1462 : Index := 0#32
  ![v3487.toNat, 0]

def k0_chk719 (i : grid0.Coords) (v48 : BitVec 32) (v3477 : BitVec 32) : Prop :=
  (∀ (k0_h10 : k0_cond10 i v48 = 1#1), 8 ∣ (k0_mult713 v3477).toNat) ∧
  (∀ (k0_h10 : k0_cond10 i v48 = 1#1), ∀ a, (k0_off1925 v3477) a + S8x128.size a ≤ S65536x128.size a) ∧
  (∀ (k0_h10 : k0_cond10 i v48 = 1#1), ∀ a, (k0_off1926 v3477) a + S1x128.size a ≤ S8192x128.size a)
theorem k0_mult713_dvd : ∀ (i : grid0.Coords) (v48 : BitVec 32) (v3477 : BitVec 32) (k0_hw719 : k0_chk719 i v48 v3477), ∀ (k0_h10 : k0_cond10 i v48 = 1#1), 8 ∣ (k0_mult713 v3477).toNat := fun i v48 v3477 k0_hw719 k0_h10 => k0_hw719.1 k0_h10
theorem k0_off1925_inb : ∀ (i : grid0.Coords) (v48 : BitVec 32) (v3477 : BitVec 32) (k0_hw719 : k0_chk719 i v48 v3477), ∀ (k0_h10 : k0_cond10 i v48 = 1#1), ∀ a, (k0_off1925 v3477) a + S8x128.size a ≤ S65536x128.size a := fun i v48 v3477 k0_hw719 k0_h10 => k0_hw719.2.1 k0_h10
theorem k0_off1926_inb : ∀ (i : grid0.Coords) (v48 : BitVec 32) (v3477 : BitVec 32) (k0_hw719 : k0_chk719 i v48 v3477), ∀ (k0_h10 : k0_cond10 i v48 = 1#1), ∀ a, (k0_off1926 v3477) a + S1x128.size a ≤ S8192x128.size a := fun i v48 v3477 k0_hw719 k0_h10 => k0_hw719.2.2 k0_h10

def k0_off1927 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c201_i32 : BitVec 32 := 201#32
  let v3492 : BitVec 32 := Scalar.addi v74 c201_i32
  let v3493 : Index := Scalar.indexCast v3492
  ![v3493.toNat]
def k0_mult714 (v3494 : BitVec 32) : BitVec 32 :=
  let c3_i32_1465 : BitVec 32 := 3#32
  let v3495 : BitVec 32 := Scalar.shrsi v3494 c3_i32_1465
  let c8191_i32_1466 : BitVec 32 := 8191#32
  let v3496 : BitVec 32 := Scalar.andi v3495 c8191_i32_1466
  let c8_i32_1467 : BitVec 32 := 8#32
  let v3497 : BitVec 32 := Scalar.muli v3496 c8_i32_1467
  v3497

def k0_off1928 (v3494 : BitVec 32) : Fin 2 → Nat :=
  let c3_i32_1465 : BitVec 32 := 3#32
  let v3495 : BitVec 32 := Scalar.shrsi v3494 c3_i32_1465
  let c8191_i32_1466 : BitVec 32 := 8191#32
  let v3496 : BitVec 32 := Scalar.andi v3495 c8191_i32_1466
  let c8_i32_1467 : BitVec 32 := 8#32
  let v3497 : BitVec 32 := Scalar.muli v3496 c8_i32_1467
  let v3498 : BitVec 32 := v3497
  let v3499 : Index := Scalar.indexCast v3498
  let c0_1468 : Index := 0#32
  ![v3499.toNat, 0]
def k0_off1929 (v3494 : BitVec 32) : Fin 2 → Nat :=
  let c3_i32_1465 : BitVec 32 := 3#32
  let v3495 : BitVec 32 := Scalar.shrsi v3494 c3_i32_1465
  let c8191_i32_1466 : BitVec 32 := 8191#32
  let v3496 : BitVec 32 := Scalar.andi v3495 c8191_i32_1466
  let v3504 : Index := Scalar.indexCast v3496
  let c0_1470 : Index := 0#32
  ![v3504.toNat, 0]

def k0_chk720 (i : grid0.Coords) (v48 : BitVec 32) (v3494 : BitVec 32) : Prop :=
  (∀ (k0_h10 : k0_cond10 i v48 = 1#1), 8 ∣ (k0_mult714 v3494).toNat) ∧
  (∀ (k0_h10 : k0_cond10 i v48 = 1#1), ∀ a, (k0_off1928 v3494) a + S8x128.size a ≤ S65536x128.size a) ∧
  (∀ (k0_h10 : k0_cond10 i v48 = 1#1), ∀ a, (k0_off1929 v3494) a + S1x128.size a ≤ S8192x128.size a)
theorem k0_mult714_dvd : ∀ (i : grid0.Coords) (v48 : BitVec 32) (v3494 : BitVec 32) (k0_hw720 : k0_chk720 i v48 v3494), ∀ (k0_h10 : k0_cond10 i v48 = 1#1), 8 ∣ (k0_mult714 v3494).toNat := fun i v48 v3494 k0_hw720 k0_h10 => k0_hw720.1 k0_h10
theorem k0_off1928_inb : ∀ (i : grid0.Coords) (v48 : BitVec 32) (v3494 : BitVec 32) (k0_hw720 : k0_chk720 i v48 v3494), ∀ (k0_h10 : k0_cond10 i v48 = 1#1), ∀ a, (k0_off1928 v3494) a + S8x128.size a ≤ S65536x128.size a := fun i v48 v3494 k0_hw720 k0_h10 => k0_hw720.2.1 k0_h10
theorem k0_off1929_inb : ∀ (i : grid0.Coords) (v48 : BitVec 32) (v3494 : BitVec 32) (k0_hw720 : k0_chk720 i v48 v3494), ∀ (k0_h10 : k0_cond10 i v48 = 1#1), ∀ a, (k0_off1929 v3494) a + S1x128.size a ≤ S8192x128.size a := fun i v48 v3494 k0_hw720 k0_h10 => k0_hw720.2.2 k0_h10

def k0_off1930 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c202_i32 : BitVec 32 := 202#32
  let v3509 : BitVec 32 := Scalar.addi v74 c202_i32
  let v3510 : Index := Scalar.indexCast v3509
  ![v3510.toNat]
def k0_mult715 (v3511 : BitVec 32) : BitVec 32 :=
  let c3_i32_1472 : BitVec 32 := 3#32
  let v3512 : BitVec 32 := Scalar.shrsi v3511 c3_i32_1472
  let c8191_i32_1473 : BitVec 32 := 8191#32
  let v3513 : BitVec 32 := Scalar.andi v3512 c8191_i32_1473
  let c8_i32_1474 : BitVec 32 := 8#32
  let v3514 : BitVec 32 := Scalar.muli v3513 c8_i32_1474
  v3514

def k0_off1931 (v3511 : BitVec 32) : Fin 2 → Nat :=
  let c3_i32_1472 : BitVec 32 := 3#32
  let v3512 : BitVec 32 := Scalar.shrsi v3511 c3_i32_1472
  let c8191_i32_1473 : BitVec 32 := 8191#32
  let v3513 : BitVec 32 := Scalar.andi v3512 c8191_i32_1473
  let c8_i32_1474 : BitVec 32 := 8#32
  let v3514 : BitVec 32 := Scalar.muli v3513 c8_i32_1474
  let v3515 : BitVec 32 := v3514
  let v3516 : Index := Scalar.indexCast v3515
  let c0_1475 : Index := 0#32
  ![v3516.toNat, 0]
def k0_off1932 (v3511 : BitVec 32) : Fin 2 → Nat :=
  let c3_i32_1472 : BitVec 32 := 3#32
  let v3512 : BitVec 32 := Scalar.shrsi v3511 c3_i32_1472
  let c8191_i32_1473 : BitVec 32 := 8191#32
  let v3513 : BitVec 32 := Scalar.andi v3512 c8191_i32_1473
  let v3521 : Index := Scalar.indexCast v3513
  let c0_1477 : Index := 0#32
  ![v3521.toNat, 0]

def k0_chk721 (i : grid0.Coords) (v48 : BitVec 32) (v3511 : BitVec 32) : Prop :=
  (∀ (k0_h10 : k0_cond10 i v48 = 1#1), 8 ∣ (k0_mult715 v3511).toNat) ∧
  (∀ (k0_h10 : k0_cond10 i v48 = 1#1), ∀ a, (k0_off1931 v3511) a + S8x128.size a ≤ S65536x128.size a) ∧
  (∀ (k0_h10 : k0_cond10 i v48 = 1#1), ∀ a, (k0_off1932 v3511) a + S1x128.size a ≤ S8192x128.size a)
theorem k0_mult715_dvd : ∀ (i : grid0.Coords) (v48 : BitVec 32) (v3511 : BitVec 32) (k0_hw721 : k0_chk721 i v48 v3511), ∀ (k0_h10 : k0_cond10 i v48 = 1#1), 8 ∣ (k0_mult715 v3511).toNat := fun i v48 v3511 k0_hw721 k0_h10 => k0_hw721.1 k0_h10
theorem k0_off1931_inb : ∀ (i : grid0.Coords) (v48 : BitVec 32) (v3511 : BitVec 32) (k0_hw721 : k0_chk721 i v48 v3511), ∀ (k0_h10 : k0_cond10 i v48 = 1#1), ∀ a, (k0_off1931 v3511) a + S8x128.size a ≤ S65536x128.size a := fun i v48 v3511 k0_hw721 k0_h10 => k0_hw721.2.1 k0_h10
theorem k0_off1932_inb : ∀ (i : grid0.Coords) (v48 : BitVec 32) (v3511 : BitVec 32) (k0_hw721 : k0_chk721 i v48 v3511), ∀ (k0_h10 : k0_cond10 i v48 = 1#1), ∀ a, (k0_off1932 v3511) a + S1x128.size a ≤ S8192x128.size a := fun i v48 v3511 k0_hw721 k0_h10 => k0_hw721.2.2 k0_h10

def k0_off1933 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c203_i32 : BitVec 32 := 203#32
  let v3526 : BitVec 32 := Scalar.addi v74 c203_i32
  let v3527 : Index := Scalar.indexCast v3526
  ![v3527.toNat]
def k0_mult716 (v3528 : BitVec 32) : BitVec 32 :=
  let c3_i32_1479 : BitVec 32 := 3#32
  let v3529 : BitVec 32 := Scalar.shrsi v3528 c3_i32_1479
  let c8191_i32_1480 : BitVec 32 := 8191#32
  let v3530 : BitVec 32 := Scalar.andi v3529 c8191_i32_1480
  let c8_i32_1481 : BitVec 32 := 8#32
  let v3531 : BitVec 32 := Scalar.muli v3530 c8_i32_1481
  v3531

def k0_off1934 (v3528 : BitVec 32) : Fin 2 → Nat :=
  let c3_i32_1479 : BitVec 32 := 3#32
  let v3529 : BitVec 32 := Scalar.shrsi v3528 c3_i32_1479
  let c8191_i32_1480 : BitVec 32 := 8191#32
  let v3530 : BitVec 32 := Scalar.andi v3529 c8191_i32_1480
  let c8_i32_1481 : BitVec 32 := 8#32
  let v3531 : BitVec 32 := Scalar.muli v3530 c8_i32_1481
  let v3532 : BitVec 32 := v3531
  let v3533 : Index := Scalar.indexCast v3532
  let c0_1482 : Index := 0#32
  ![v3533.toNat, 0]
def k0_off1935 (v3528 : BitVec 32) : Fin 2 → Nat :=
  let c3_i32_1479 : BitVec 32 := 3#32
  let v3529 : BitVec 32 := Scalar.shrsi v3528 c3_i32_1479
  let c8191_i32_1480 : BitVec 32 := 8191#32
  let v3530 : BitVec 32 := Scalar.andi v3529 c8191_i32_1480
  let v3538 : Index := Scalar.indexCast v3530
  let c0_1484 : Index := 0#32
  ![v3538.toNat, 0]

def k0_chk722 (i : grid0.Coords) (v48 : BitVec 32) (v3528 : BitVec 32) : Prop :=
  (∀ (k0_h10 : k0_cond10 i v48 = 1#1), 8 ∣ (k0_mult716 v3528).toNat) ∧
  (∀ (k0_h10 : k0_cond10 i v48 = 1#1), ∀ a, (k0_off1934 v3528) a + S8x128.size a ≤ S65536x128.size a) ∧
  (∀ (k0_h10 : k0_cond10 i v48 = 1#1), ∀ a, (k0_off1935 v3528) a + S1x128.size a ≤ S8192x128.size a)
theorem k0_mult716_dvd : ∀ (i : grid0.Coords) (v48 : BitVec 32) (v3528 : BitVec 32) (k0_hw722 : k0_chk722 i v48 v3528), ∀ (k0_h10 : k0_cond10 i v48 = 1#1), 8 ∣ (k0_mult716 v3528).toNat := fun i v48 v3528 k0_hw722 k0_h10 => k0_hw722.1 k0_h10
theorem k0_off1934_inb : ∀ (i : grid0.Coords) (v48 : BitVec 32) (v3528 : BitVec 32) (k0_hw722 : k0_chk722 i v48 v3528), ∀ (k0_h10 : k0_cond10 i v48 = 1#1), ∀ a, (k0_off1934 v3528) a + S8x128.size a ≤ S65536x128.size a := fun i v48 v3528 k0_hw722 k0_h10 => k0_hw722.2.1 k0_h10
theorem k0_off1935_inb : ∀ (i : grid0.Coords) (v48 : BitVec 32) (v3528 : BitVec 32) (k0_hw722 : k0_chk722 i v48 v3528), ∀ (k0_h10 : k0_cond10 i v48 = 1#1), ∀ a, (k0_off1935 v3528) a + S1x128.size a ≤ S8192x128.size a := fun i v48 v3528 k0_hw722 k0_h10 => k0_hw722.2.2 k0_h10

def k0_off1936 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c204_i32 : BitVec 32 := 204#32
  let v3543 : BitVec 32 := Scalar.addi v74 c204_i32
  let v3544 : Index := Scalar.indexCast v3543
  ![v3544.toNat]
def k0_mult717 (v3545 : BitVec 32) : BitVec 32 :=
  let c3_i32_1486 : BitVec 32 := 3#32
  let v3546 : BitVec 32 := Scalar.shrsi v3545 c3_i32_1486
  let c8191_i32_1487 : BitVec 32 := 8191#32
  let v3547 : BitVec 32 := Scalar.andi v3546 c8191_i32_1487
  let c8_i32_1488 : BitVec 32 := 8#32
  let v3548 : BitVec 32 := Scalar.muli v3547 c8_i32_1488
  v3548

def k0_off1937 (v3545 : BitVec 32) : Fin 2 → Nat :=
  let c3_i32_1486 : BitVec 32 := 3#32
  let v3546 : BitVec 32 := Scalar.shrsi v3545 c3_i32_1486
  let c8191_i32_1487 : BitVec 32 := 8191#32
  let v3547 : BitVec 32 := Scalar.andi v3546 c8191_i32_1487
  let c8_i32_1488 : BitVec 32 := 8#32
  let v3548 : BitVec 32 := Scalar.muli v3547 c8_i32_1488
  let v3549 : BitVec 32 := v3548
  let v3550 : Index := Scalar.indexCast v3549
  let c0_1489 : Index := 0#32
  ![v3550.toNat, 0]
def k0_off1938 (v3545 : BitVec 32) : Fin 2 → Nat :=
  let c3_i32_1486 : BitVec 32 := 3#32
  let v3546 : BitVec 32 := Scalar.shrsi v3545 c3_i32_1486
  let c8191_i32_1487 : BitVec 32 := 8191#32
  let v3547 : BitVec 32 := Scalar.andi v3546 c8191_i32_1487
  let v3555 : Index := Scalar.indexCast v3547
  let c0_1491 : Index := 0#32
  ![v3555.toNat, 0]

def k0_chk723 (i : grid0.Coords) (v48 : BitVec 32) (v3545 : BitVec 32) : Prop :=
  (∀ (k0_h10 : k0_cond10 i v48 = 1#1), 8 ∣ (k0_mult717 v3545).toNat) ∧
  (∀ (k0_h10 : k0_cond10 i v48 = 1#1), ∀ a, (k0_off1937 v3545) a + S8x128.size a ≤ S65536x128.size a) ∧
  (∀ (k0_h10 : k0_cond10 i v48 = 1#1), ∀ a, (k0_off1938 v3545) a + S1x128.size a ≤ S8192x128.size a)
theorem k0_mult717_dvd : ∀ (i : grid0.Coords) (v48 : BitVec 32) (v3545 : BitVec 32) (k0_hw723 : k0_chk723 i v48 v3545), ∀ (k0_h10 : k0_cond10 i v48 = 1#1), 8 ∣ (k0_mult717 v3545).toNat := fun i v48 v3545 k0_hw723 k0_h10 => k0_hw723.1 k0_h10
theorem k0_off1937_inb : ∀ (i : grid0.Coords) (v48 : BitVec 32) (v3545 : BitVec 32) (k0_hw723 : k0_chk723 i v48 v3545), ∀ (k0_h10 : k0_cond10 i v48 = 1#1), ∀ a, (k0_off1937 v3545) a + S8x128.size a ≤ S65536x128.size a := fun i v48 v3545 k0_hw723 k0_h10 => k0_hw723.2.1 k0_h10
theorem k0_off1938_inb : ∀ (i : grid0.Coords) (v48 : BitVec 32) (v3545 : BitVec 32) (k0_hw723 : k0_chk723 i v48 v3545), ∀ (k0_h10 : k0_cond10 i v48 = 1#1), ∀ a, (k0_off1938 v3545) a + S1x128.size a ≤ S8192x128.size a := fun i v48 v3545 k0_hw723 k0_h10 => k0_hw723.2.2 k0_h10

def k0_off1939 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c205_i32 : BitVec 32 := 205#32
  let v3560 : BitVec 32 := Scalar.addi v74 c205_i32
  let v3561 : Index := Scalar.indexCast v3560
  ![v3561.toNat]
def k0_mult718 (v3562 : BitVec 32) : BitVec 32 :=
  let c3_i32_1493 : BitVec 32 := 3#32
  let v3563 : BitVec 32 := Scalar.shrsi v3562 c3_i32_1493
  let c8191_i32_1494 : BitVec 32 := 8191#32
  let v3564 : BitVec 32 := Scalar.andi v3563 c8191_i32_1494
  let c8_i32_1495 : BitVec 32 := 8#32
  let v3565 : BitVec 32 := Scalar.muli v3564 c8_i32_1495
  v3565

def k0_off1940 (v3562 : BitVec 32) : Fin 2 → Nat :=
  let c3_i32_1493 : BitVec 32 := 3#32
  let v3563 : BitVec 32 := Scalar.shrsi v3562 c3_i32_1493
  let c8191_i32_1494 : BitVec 32 := 8191#32
  let v3564 : BitVec 32 := Scalar.andi v3563 c8191_i32_1494
  let c8_i32_1495 : BitVec 32 := 8#32
  let v3565 : BitVec 32 := Scalar.muli v3564 c8_i32_1495
  let v3566 : BitVec 32 := v3565
  let v3567 : Index := Scalar.indexCast v3566
  let c0_1496 : Index := 0#32
  ![v3567.toNat, 0]
def k0_off1941 (v3562 : BitVec 32) : Fin 2 → Nat :=
  let c3_i32_1493 : BitVec 32 := 3#32
  let v3563 : BitVec 32 := Scalar.shrsi v3562 c3_i32_1493
  let c8191_i32_1494 : BitVec 32 := 8191#32
  let v3564 : BitVec 32 := Scalar.andi v3563 c8191_i32_1494
  let v3572 : Index := Scalar.indexCast v3564
  let c0_1498 : Index := 0#32
  ![v3572.toNat, 0]

def k0_chk724 (i : grid0.Coords) (v48 : BitVec 32) (v3562 : BitVec 32) : Prop :=
  (∀ (k0_h10 : k0_cond10 i v48 = 1#1), 8 ∣ (k0_mult718 v3562).toNat) ∧
  (∀ (k0_h10 : k0_cond10 i v48 = 1#1), ∀ a, (k0_off1940 v3562) a + S8x128.size a ≤ S65536x128.size a) ∧
  (∀ (k0_h10 : k0_cond10 i v48 = 1#1), ∀ a, (k0_off1941 v3562) a + S1x128.size a ≤ S8192x128.size a)
theorem k0_mult718_dvd : ∀ (i : grid0.Coords) (v48 : BitVec 32) (v3562 : BitVec 32) (k0_hw724 : k0_chk724 i v48 v3562), ∀ (k0_h10 : k0_cond10 i v48 = 1#1), 8 ∣ (k0_mult718 v3562).toNat := fun i v48 v3562 k0_hw724 k0_h10 => k0_hw724.1 k0_h10
theorem k0_off1940_inb : ∀ (i : grid0.Coords) (v48 : BitVec 32) (v3562 : BitVec 32) (k0_hw724 : k0_chk724 i v48 v3562), ∀ (k0_h10 : k0_cond10 i v48 = 1#1), ∀ a, (k0_off1940 v3562) a + S8x128.size a ≤ S65536x128.size a := fun i v48 v3562 k0_hw724 k0_h10 => k0_hw724.2.1 k0_h10
theorem k0_off1941_inb : ∀ (i : grid0.Coords) (v48 : BitVec 32) (v3562 : BitVec 32) (k0_hw724 : k0_chk724 i v48 v3562), ∀ (k0_h10 : k0_cond10 i v48 = 1#1), ∀ a, (k0_off1941 v3562) a + S1x128.size a ≤ S8192x128.size a := fun i v48 v3562 k0_hw724 k0_h10 => k0_hw724.2.2 k0_h10

def k0_off1942 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c206_i32 : BitVec 32 := 206#32
  let v3577 : BitVec 32 := Scalar.addi v74 c206_i32
  let v3578 : Index := Scalar.indexCast v3577
  ![v3578.toNat]
def k0_mult719 (v3579 : BitVec 32) : BitVec 32 :=
  let c3_i32_1500 : BitVec 32 := 3#32
  let v3580 : BitVec 32 := Scalar.shrsi v3579 c3_i32_1500
  let c8191_i32_1501 : BitVec 32 := 8191#32
  let v3581 : BitVec 32 := Scalar.andi v3580 c8191_i32_1501
  let c8_i32_1502 : BitVec 32 := 8#32
  let v3582 : BitVec 32 := Scalar.muli v3581 c8_i32_1502
  v3582

def k0_off1943 (v3579 : BitVec 32) : Fin 2 → Nat :=
  let c3_i32_1500 : BitVec 32 := 3#32
  let v3580 : BitVec 32 := Scalar.shrsi v3579 c3_i32_1500
  let c8191_i32_1501 : BitVec 32 := 8191#32
  let v3581 : BitVec 32 := Scalar.andi v3580 c8191_i32_1501
  let c8_i32_1502 : BitVec 32 := 8#32
  let v3582 : BitVec 32 := Scalar.muli v3581 c8_i32_1502
  let v3583 : BitVec 32 := v3582
  let v3584 : Index := Scalar.indexCast v3583
  let c0_1503 : Index := 0#32
  ![v3584.toNat, 0]
def k0_off1944 (v3579 : BitVec 32) : Fin 2 → Nat :=
  let c3_i32_1500 : BitVec 32 := 3#32
  let v3580 : BitVec 32 := Scalar.shrsi v3579 c3_i32_1500
  let c8191_i32_1501 : BitVec 32 := 8191#32
  let v3581 : BitVec 32 := Scalar.andi v3580 c8191_i32_1501
  let v3589 : Index := Scalar.indexCast v3581
  let c0_1505 : Index := 0#32
  ![v3589.toNat, 0]

def k0_chk725 (i : grid0.Coords) (v48 : BitVec 32) (v3579 : BitVec 32) : Prop :=
  (∀ (k0_h10 : k0_cond10 i v48 = 1#1), 8 ∣ (k0_mult719 v3579).toNat) ∧
  (∀ (k0_h10 : k0_cond10 i v48 = 1#1), ∀ a, (k0_off1943 v3579) a + S8x128.size a ≤ S65536x128.size a) ∧
  (∀ (k0_h10 : k0_cond10 i v48 = 1#1), ∀ a, (k0_off1944 v3579) a + S1x128.size a ≤ S8192x128.size a)
theorem k0_mult719_dvd : ∀ (i : grid0.Coords) (v48 : BitVec 32) (v3579 : BitVec 32) (k0_hw725 : k0_chk725 i v48 v3579), ∀ (k0_h10 : k0_cond10 i v48 = 1#1), 8 ∣ (k0_mult719 v3579).toNat := fun i v48 v3579 k0_hw725 k0_h10 => k0_hw725.1 k0_h10
theorem k0_off1943_inb : ∀ (i : grid0.Coords) (v48 : BitVec 32) (v3579 : BitVec 32) (k0_hw725 : k0_chk725 i v48 v3579), ∀ (k0_h10 : k0_cond10 i v48 = 1#1), ∀ a, (k0_off1943 v3579) a + S8x128.size a ≤ S65536x128.size a := fun i v48 v3579 k0_hw725 k0_h10 => k0_hw725.2.1 k0_h10
theorem k0_off1944_inb : ∀ (i : grid0.Coords) (v48 : BitVec 32) (v3579 : BitVec 32) (k0_hw725 : k0_chk725 i v48 v3579), ∀ (k0_h10 : k0_cond10 i v48 = 1#1), ∀ a, (k0_off1944 v3579) a + S1x128.size a ≤ S8192x128.size a := fun i v48 v3579 k0_hw725 k0_h10 => k0_hw725.2.2 k0_h10

def k0_off1945 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c207_i32 : BitVec 32 := 207#32
  let v3594 : BitVec 32 := Scalar.addi v74 c207_i32
  let v3595 : Index := Scalar.indexCast v3594
  ![v3595.toNat]
def k0_mult720 (v3596 : BitVec 32) : BitVec 32 :=
  let c3_i32_1507 : BitVec 32 := 3#32
  let v3597 : BitVec 32 := Scalar.shrsi v3596 c3_i32_1507
  let c8191_i32_1508 : BitVec 32 := 8191#32
  let v3598 : BitVec 32 := Scalar.andi v3597 c8191_i32_1508
  let c8_i32_1509 : BitVec 32 := 8#32
  let v3599 : BitVec 32 := Scalar.muli v3598 c8_i32_1509
  v3599

def k0_off1946 (v3596 : BitVec 32) : Fin 2 → Nat :=
  let c3_i32_1507 : BitVec 32 := 3#32
  let v3597 : BitVec 32 := Scalar.shrsi v3596 c3_i32_1507
  let c8191_i32_1508 : BitVec 32 := 8191#32
  let v3598 : BitVec 32 := Scalar.andi v3597 c8191_i32_1508
  let c8_i32_1509 : BitVec 32 := 8#32
  let v3599 : BitVec 32 := Scalar.muli v3598 c8_i32_1509
  let v3600 : BitVec 32 := v3599
  let v3601 : Index := Scalar.indexCast v3600
  let c0_1510 : Index := 0#32
  ![v3601.toNat, 0]
def k0_off1947 (v3596 : BitVec 32) : Fin 2 → Nat :=
  let c3_i32_1507 : BitVec 32 := 3#32
  let v3597 : BitVec 32 := Scalar.shrsi v3596 c3_i32_1507
  let c8191_i32_1508 : BitVec 32 := 8191#32
  let v3598 : BitVec 32 := Scalar.andi v3597 c8191_i32_1508
  let v3606 : Index := Scalar.indexCast v3598
  let c0_1512 : Index := 0#32
  ![v3606.toNat, 0]

def k0_chk726 (i : grid0.Coords) (v48 : BitVec 32) (v3596 : BitVec 32) : Prop :=
  (∀ (k0_h10 : k0_cond10 i v48 = 1#1), 8 ∣ (k0_mult720 v3596).toNat) ∧
  (∀ (k0_h10 : k0_cond10 i v48 = 1#1), ∀ a, (k0_off1946 v3596) a + S8x128.size a ≤ S65536x128.size a) ∧
  (∀ (k0_h10 : k0_cond10 i v48 = 1#1), ∀ a, (k0_off1947 v3596) a + S1x128.size a ≤ S8192x128.size a)
theorem k0_mult720_dvd : ∀ (i : grid0.Coords) (v48 : BitVec 32) (v3596 : BitVec 32) (k0_hw726 : k0_chk726 i v48 v3596), ∀ (k0_h10 : k0_cond10 i v48 = 1#1), 8 ∣ (k0_mult720 v3596).toNat := fun i v48 v3596 k0_hw726 k0_h10 => k0_hw726.1 k0_h10
theorem k0_off1946_inb : ∀ (i : grid0.Coords) (v48 : BitVec 32) (v3596 : BitVec 32) (k0_hw726 : k0_chk726 i v48 v3596), ∀ (k0_h10 : k0_cond10 i v48 = 1#1), ∀ a, (k0_off1946 v3596) a + S8x128.size a ≤ S65536x128.size a := fun i v48 v3596 k0_hw726 k0_h10 => k0_hw726.2.1 k0_h10
theorem k0_off1947_inb : ∀ (i : grid0.Coords) (v48 : BitVec 32) (v3596 : BitVec 32) (k0_hw726 : k0_chk726 i v48 v3596), ∀ (k0_h10 : k0_cond10 i v48 = 1#1), ∀ a, (k0_off1947 v3596) a + S1x128.size a ≤ S8192x128.size a := fun i v48 v3596 k0_hw726 k0_h10 => k0_hw726.2.2 k0_h10

def k0_off1948 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c208_i32 : BitVec 32 := 208#32
  let v3611 : BitVec 32 := Scalar.addi v74 c208_i32
  let v3612 : Index := Scalar.indexCast v3611
  ![v3612.toNat]
def k0_mult721 (v3613 : BitVec 32) : BitVec 32 :=
  let c3_i32_1514 : BitVec 32 := 3#32
  let v3614 : BitVec 32 := Scalar.shrsi v3613 c3_i32_1514
  let c8191_i32_1515 : BitVec 32 := 8191#32
  let v3615 : BitVec 32 := Scalar.andi v3614 c8191_i32_1515
  let c8_i32_1516 : BitVec 32 := 8#32
  let v3616 : BitVec 32 := Scalar.muli v3615 c8_i32_1516
  v3616

def k0_off1949 (v3613 : BitVec 32) : Fin 2 → Nat :=
  let c3_i32_1514 : BitVec 32 := 3#32
  let v3614 : BitVec 32 := Scalar.shrsi v3613 c3_i32_1514
  let c8191_i32_1515 : BitVec 32 := 8191#32
  let v3615 : BitVec 32 := Scalar.andi v3614 c8191_i32_1515
  let c8_i32_1516 : BitVec 32 := 8#32
  let v3616 : BitVec 32 := Scalar.muli v3615 c8_i32_1516
  let v3617 : BitVec 32 := v3616
  let v3618 : Index := Scalar.indexCast v3617
  let c0_1517 : Index := 0#32
  ![v3618.toNat, 0]
def k0_off1950 (v3613 : BitVec 32) : Fin 2 → Nat :=
  let c3_i32_1514 : BitVec 32 := 3#32
  let v3614 : BitVec 32 := Scalar.shrsi v3613 c3_i32_1514
  let c8191_i32_1515 : BitVec 32 := 8191#32
  let v3615 : BitVec 32 := Scalar.andi v3614 c8191_i32_1515
  let v3623 : Index := Scalar.indexCast v3615
  let c0_1519 : Index := 0#32
  ![v3623.toNat, 0]

def k0_chk727 (i : grid0.Coords) (v48 : BitVec 32) (v3613 : BitVec 32) : Prop :=
  (∀ (k0_h10 : k0_cond10 i v48 = 1#1), 8 ∣ (k0_mult721 v3613).toNat) ∧
  (∀ (k0_h10 : k0_cond10 i v48 = 1#1), ∀ a, (k0_off1949 v3613) a + S8x128.size a ≤ S65536x128.size a) ∧
  (∀ (k0_h10 : k0_cond10 i v48 = 1#1), ∀ a, (k0_off1950 v3613) a + S1x128.size a ≤ S8192x128.size a)
theorem k0_mult721_dvd : ∀ (i : grid0.Coords) (v48 : BitVec 32) (v3613 : BitVec 32) (k0_hw727 : k0_chk727 i v48 v3613), ∀ (k0_h10 : k0_cond10 i v48 = 1#1), 8 ∣ (k0_mult721 v3613).toNat := fun i v48 v3613 k0_hw727 k0_h10 => k0_hw727.1 k0_h10
theorem k0_off1949_inb : ∀ (i : grid0.Coords) (v48 : BitVec 32) (v3613 : BitVec 32) (k0_hw727 : k0_chk727 i v48 v3613), ∀ (k0_h10 : k0_cond10 i v48 = 1#1), ∀ a, (k0_off1949 v3613) a + S8x128.size a ≤ S65536x128.size a := fun i v48 v3613 k0_hw727 k0_h10 => k0_hw727.2.1 k0_h10
theorem k0_off1950_inb : ∀ (i : grid0.Coords) (v48 : BitVec 32) (v3613 : BitVec 32) (k0_hw727 : k0_chk727 i v48 v3613), ∀ (k0_h10 : k0_cond10 i v48 = 1#1), ∀ a, (k0_off1950 v3613) a + S1x128.size a ≤ S8192x128.size a := fun i v48 v3613 k0_hw727 k0_h10 => k0_hw727.2.2 k0_h10

def k0_off1951 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c209_i32 : BitVec 32 := 209#32
  let v3628 : BitVec 32 := Scalar.addi v74 c209_i32
  let v3629 : Index := Scalar.indexCast v3628
  ![v3629.toNat]
def k0_mult722 (v3630 : BitVec 32) : BitVec 32 :=
  let c3_i32_1522 : BitVec 32 := 3#32
  let v3631 : BitVec 32 := Scalar.shrsi v3630 c3_i32_1522
  let c8191_i32_1523 : BitVec 32 := 8191#32
  let v3632 : BitVec 32 := Scalar.andi v3631 c8191_i32_1523
  let c8_i32_1524 : BitVec 32 := 8#32
  let v3633 : BitVec 32 := Scalar.muli v3632 c8_i32_1524
  v3633

def k0_off1952 (v3630 : BitVec 32) : Fin 2 → Nat :=
  let c3_i32_1522 : BitVec 32 := 3#32
  let v3631 : BitVec 32 := Scalar.shrsi v3630 c3_i32_1522
  let c8191_i32_1523 : BitVec 32 := 8191#32
  let v3632 : BitVec 32 := Scalar.andi v3631 c8191_i32_1523
  let c8_i32_1524 : BitVec 32 := 8#32
  let v3633 : BitVec 32 := Scalar.muli v3632 c8_i32_1524
  let v3634 : BitVec 32 := v3633
  let v3635 : Index := Scalar.indexCast v3634
  let c0_1525 : Index := 0#32
  ![v3635.toNat, 0]
def k0_off1953 (v3630 : BitVec 32) : Fin 2 → Nat :=
  let c3_i32_1522 : BitVec 32 := 3#32
  let v3631 : BitVec 32 := Scalar.shrsi v3630 c3_i32_1522
  let c8191_i32_1523 : BitVec 32 := 8191#32
  let v3632 : BitVec 32 := Scalar.andi v3631 c8191_i32_1523
  let v3640 : Index := Scalar.indexCast v3632
  let c0_1527 : Index := 0#32
  ![v3640.toNat, 0]

def k0_chk728 (i : grid0.Coords) (v48 : BitVec 32) (v3630 : BitVec 32) : Prop :=
  (∀ (k0_h10 : k0_cond10 i v48 = 1#1), 8 ∣ (k0_mult722 v3630).toNat) ∧
  (∀ (k0_h10 : k0_cond10 i v48 = 1#1), ∀ a, (k0_off1952 v3630) a + S8x128.size a ≤ S65536x128.size a) ∧
  (∀ (k0_h10 : k0_cond10 i v48 = 1#1), ∀ a, (k0_off1953 v3630) a + S1x128.size a ≤ S8192x128.size a)
theorem k0_mult722_dvd : ∀ (i : grid0.Coords) (v48 : BitVec 32) (v3630 : BitVec 32) (k0_hw728 : k0_chk728 i v48 v3630), ∀ (k0_h10 : k0_cond10 i v48 = 1#1), 8 ∣ (k0_mult722 v3630).toNat := fun i v48 v3630 k0_hw728 k0_h10 => k0_hw728.1 k0_h10
theorem k0_off1952_inb : ∀ (i : grid0.Coords) (v48 : BitVec 32) (v3630 : BitVec 32) (k0_hw728 : k0_chk728 i v48 v3630), ∀ (k0_h10 : k0_cond10 i v48 = 1#1), ∀ a, (k0_off1952 v3630) a + S8x128.size a ≤ S65536x128.size a := fun i v48 v3630 k0_hw728 k0_h10 => k0_hw728.2.1 k0_h10
theorem k0_off1953_inb : ∀ (i : grid0.Coords) (v48 : BitVec 32) (v3630 : BitVec 32) (k0_hw728 : k0_chk728 i v48 v3630), ∀ (k0_h10 : k0_cond10 i v48 = 1#1), ∀ a, (k0_off1953 v3630) a + S1x128.size a ≤ S8192x128.size a := fun i v48 v3630 k0_hw728 k0_h10 => k0_hw728.2.2 k0_h10

def k0_off1954 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c210_i32 : BitVec 32 := 210#32
  let v3645 : BitVec 32 := Scalar.addi v74 c210_i32
  let v3646 : Index := Scalar.indexCast v3645
  ![v3646.toNat]
def k0_mult723 (v3647 : BitVec 32) : BitVec 32 :=
  let c3_i32_1529 : BitVec 32 := 3#32
  let v3648 : BitVec 32 := Scalar.shrsi v3647 c3_i32_1529
  let c8191_i32_1530 : BitVec 32 := 8191#32
  let v3649 : BitVec 32 := Scalar.andi v3648 c8191_i32_1530
  let c8_i32_1531 : BitVec 32 := 8#32
  let v3650 : BitVec 32 := Scalar.muli v3649 c8_i32_1531
  v3650

def k0_off1955 (v3647 : BitVec 32) : Fin 2 → Nat :=
  let c3_i32_1529 : BitVec 32 := 3#32
  let v3648 : BitVec 32 := Scalar.shrsi v3647 c3_i32_1529
  let c8191_i32_1530 : BitVec 32 := 8191#32
  let v3649 : BitVec 32 := Scalar.andi v3648 c8191_i32_1530
  let c8_i32_1531 : BitVec 32 := 8#32
  let v3650 : BitVec 32 := Scalar.muli v3649 c8_i32_1531
  let v3651 : BitVec 32 := v3650
  let v3652 : Index := Scalar.indexCast v3651
  let c0_1532 : Index := 0#32
  ![v3652.toNat, 0]
def k0_off1956 (v3647 : BitVec 32) : Fin 2 → Nat :=
  let c3_i32_1529 : BitVec 32 := 3#32
  let v3648 : BitVec 32 := Scalar.shrsi v3647 c3_i32_1529
  let c8191_i32_1530 : BitVec 32 := 8191#32
  let v3649 : BitVec 32 := Scalar.andi v3648 c8191_i32_1530
  let v3657 : Index := Scalar.indexCast v3649
  let c0_1534 : Index := 0#32
  ![v3657.toNat, 0]

def k0_chk729 (i : grid0.Coords) (v48 : BitVec 32) (v3647 : BitVec 32) : Prop :=
  (∀ (k0_h10 : k0_cond10 i v48 = 1#1), 8 ∣ (k0_mult723 v3647).toNat) ∧
  (∀ (k0_h10 : k0_cond10 i v48 = 1#1), ∀ a, (k0_off1955 v3647) a + S8x128.size a ≤ S65536x128.size a) ∧
  (∀ (k0_h10 : k0_cond10 i v48 = 1#1), ∀ a, (k0_off1956 v3647) a + S1x128.size a ≤ S8192x128.size a)
theorem k0_mult723_dvd : ∀ (i : grid0.Coords) (v48 : BitVec 32) (v3647 : BitVec 32) (k0_hw729 : k0_chk729 i v48 v3647), ∀ (k0_h10 : k0_cond10 i v48 = 1#1), 8 ∣ (k0_mult723 v3647).toNat := fun i v48 v3647 k0_hw729 k0_h10 => k0_hw729.1 k0_h10
theorem k0_off1955_inb : ∀ (i : grid0.Coords) (v48 : BitVec 32) (v3647 : BitVec 32) (k0_hw729 : k0_chk729 i v48 v3647), ∀ (k0_h10 : k0_cond10 i v48 = 1#1), ∀ a, (k0_off1955 v3647) a + S8x128.size a ≤ S65536x128.size a := fun i v48 v3647 k0_hw729 k0_h10 => k0_hw729.2.1 k0_h10
theorem k0_off1956_inb : ∀ (i : grid0.Coords) (v48 : BitVec 32) (v3647 : BitVec 32) (k0_hw729 : k0_chk729 i v48 v3647), ∀ (k0_h10 : k0_cond10 i v48 = 1#1), ∀ a, (k0_off1956 v3647) a + S1x128.size a ≤ S8192x128.size a := fun i v48 v3647 k0_hw729 k0_h10 => k0_hw729.2.2 k0_h10

def k0_off1957 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c211_i32 : BitVec 32 := 211#32
  let v3662 : BitVec 32 := Scalar.addi v74 c211_i32
  let v3663 : Index := Scalar.indexCast v3662
  ![v3663.toNat]
def k0_mult724 (v3664 : BitVec 32) : BitVec 32 :=
  let c3_i32_1536 : BitVec 32 := 3#32
  let v3665 : BitVec 32 := Scalar.shrsi v3664 c3_i32_1536
  let c8191_i32_1537 : BitVec 32 := 8191#32
  let v3666 : BitVec 32 := Scalar.andi v3665 c8191_i32_1537
  let c8_i32_1538 : BitVec 32 := 8#32
  let v3667 : BitVec 32 := Scalar.muli v3666 c8_i32_1538
  v3667

def k0_off1958 (v3664 : BitVec 32) : Fin 2 → Nat :=
  let c3_i32_1536 : BitVec 32 := 3#32
  let v3665 : BitVec 32 := Scalar.shrsi v3664 c3_i32_1536
  let c8191_i32_1537 : BitVec 32 := 8191#32
  let v3666 : BitVec 32 := Scalar.andi v3665 c8191_i32_1537
  let c8_i32_1538 : BitVec 32 := 8#32
  let v3667 : BitVec 32 := Scalar.muli v3666 c8_i32_1538
  let v3668 : BitVec 32 := v3667
  let v3669 : Index := Scalar.indexCast v3668
  let c0_1539 : Index := 0#32
  ![v3669.toNat, 0]
def k0_off1959 (v3664 : BitVec 32) : Fin 2 → Nat :=
  let c3_i32_1536 : BitVec 32 := 3#32
  let v3665 : BitVec 32 := Scalar.shrsi v3664 c3_i32_1536
  let c8191_i32_1537 : BitVec 32 := 8191#32
  let v3666 : BitVec 32 := Scalar.andi v3665 c8191_i32_1537
  let v3674 : Index := Scalar.indexCast v3666
  let c0_1541 : Index := 0#32
  ![v3674.toNat, 0]

def k0_chk730 (i : grid0.Coords) (v48 : BitVec 32) (v3664 : BitVec 32) : Prop :=
  (∀ (k0_h10 : k0_cond10 i v48 = 1#1), 8 ∣ (k0_mult724 v3664).toNat) ∧
  (∀ (k0_h10 : k0_cond10 i v48 = 1#1), ∀ a, (k0_off1958 v3664) a + S8x128.size a ≤ S65536x128.size a) ∧
  (∀ (k0_h10 : k0_cond10 i v48 = 1#1), ∀ a, (k0_off1959 v3664) a + S1x128.size a ≤ S8192x128.size a)
theorem k0_mult724_dvd : ∀ (i : grid0.Coords) (v48 : BitVec 32) (v3664 : BitVec 32) (k0_hw730 : k0_chk730 i v48 v3664), ∀ (k0_h10 : k0_cond10 i v48 = 1#1), 8 ∣ (k0_mult724 v3664).toNat := fun i v48 v3664 k0_hw730 k0_h10 => k0_hw730.1 k0_h10
theorem k0_off1958_inb : ∀ (i : grid0.Coords) (v48 : BitVec 32) (v3664 : BitVec 32) (k0_hw730 : k0_chk730 i v48 v3664), ∀ (k0_h10 : k0_cond10 i v48 = 1#1), ∀ a, (k0_off1958 v3664) a + S8x128.size a ≤ S65536x128.size a := fun i v48 v3664 k0_hw730 k0_h10 => k0_hw730.2.1 k0_h10
theorem k0_off1959_inb : ∀ (i : grid0.Coords) (v48 : BitVec 32) (v3664 : BitVec 32) (k0_hw730 : k0_chk730 i v48 v3664), ∀ (k0_h10 : k0_cond10 i v48 = 1#1), ∀ a, (k0_off1959 v3664) a + S1x128.size a ≤ S8192x128.size a := fun i v48 v3664 k0_hw730 k0_h10 => k0_hw730.2.2 k0_h10

def k0_off1960 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c212_i32 : BitVec 32 := 212#32
  let v3679 : BitVec 32 := Scalar.addi v74 c212_i32
  let v3680 : Index := Scalar.indexCast v3679
  ![v3680.toNat]
def k0_mult725 (v3681 : BitVec 32) : BitVec 32 :=
  let c3_i32_1543 : BitVec 32 := 3#32
  let v3682 : BitVec 32 := Scalar.shrsi v3681 c3_i32_1543
  let c8191_i32_1544 : BitVec 32 := 8191#32
  let v3683 : BitVec 32 := Scalar.andi v3682 c8191_i32_1544
  let c8_i32_1545 : BitVec 32 := 8#32
  let v3684 : BitVec 32 := Scalar.muli v3683 c8_i32_1545
  v3684

def k0_off1961 (v3681 : BitVec 32) : Fin 2 → Nat :=
  let c3_i32_1543 : BitVec 32 := 3#32
  let v3682 : BitVec 32 := Scalar.shrsi v3681 c3_i32_1543
  let c8191_i32_1544 : BitVec 32 := 8191#32
  let v3683 : BitVec 32 := Scalar.andi v3682 c8191_i32_1544
  let c8_i32_1545 : BitVec 32 := 8#32
  let v3684 : BitVec 32 := Scalar.muli v3683 c8_i32_1545
  let v3685 : BitVec 32 := v3684
  let v3686 : Index := Scalar.indexCast v3685
  let c0_1546 : Index := 0#32
  ![v3686.toNat, 0]
def k0_off1962 (v3681 : BitVec 32) : Fin 2 → Nat :=
  let c3_i32_1543 : BitVec 32 := 3#32
  let v3682 : BitVec 32 := Scalar.shrsi v3681 c3_i32_1543
  let c8191_i32_1544 : BitVec 32 := 8191#32
  let v3683 : BitVec 32 := Scalar.andi v3682 c8191_i32_1544
  let v3691 : Index := Scalar.indexCast v3683
  let c0_1548 : Index := 0#32
  ![v3691.toNat, 0]

def k0_chk731 (i : grid0.Coords) (v48 : BitVec 32) (v3681 : BitVec 32) : Prop :=
  (∀ (k0_h10 : k0_cond10 i v48 = 1#1), 8 ∣ (k0_mult725 v3681).toNat) ∧
  (∀ (k0_h10 : k0_cond10 i v48 = 1#1), ∀ a, (k0_off1961 v3681) a + S8x128.size a ≤ S65536x128.size a) ∧
  (∀ (k0_h10 : k0_cond10 i v48 = 1#1), ∀ a, (k0_off1962 v3681) a + S1x128.size a ≤ S8192x128.size a)
theorem k0_mult725_dvd : ∀ (i : grid0.Coords) (v48 : BitVec 32) (v3681 : BitVec 32) (k0_hw731 : k0_chk731 i v48 v3681), ∀ (k0_h10 : k0_cond10 i v48 = 1#1), 8 ∣ (k0_mult725 v3681).toNat := fun i v48 v3681 k0_hw731 k0_h10 => k0_hw731.1 k0_h10
theorem k0_off1961_inb : ∀ (i : grid0.Coords) (v48 : BitVec 32) (v3681 : BitVec 32) (k0_hw731 : k0_chk731 i v48 v3681), ∀ (k0_h10 : k0_cond10 i v48 = 1#1), ∀ a, (k0_off1961 v3681) a + S8x128.size a ≤ S65536x128.size a := fun i v48 v3681 k0_hw731 k0_h10 => k0_hw731.2.1 k0_h10
theorem k0_off1962_inb : ∀ (i : grid0.Coords) (v48 : BitVec 32) (v3681 : BitVec 32) (k0_hw731 : k0_chk731 i v48 v3681), ∀ (k0_h10 : k0_cond10 i v48 = 1#1), ∀ a, (k0_off1962 v3681) a + S1x128.size a ≤ S8192x128.size a := fun i v48 v3681 k0_hw731 k0_h10 => k0_hw731.2.2 k0_h10

def k0_off1963 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c213_i32 : BitVec 32 := 213#32
  let v3696 : BitVec 32 := Scalar.addi v74 c213_i32
  let v3697 : Index := Scalar.indexCast v3696
  ![v3697.toNat]
def k0_mult726 (v3698 : BitVec 32) : BitVec 32 :=
  let c3_i32_1550 : BitVec 32 := 3#32
  let v3699 : BitVec 32 := Scalar.shrsi v3698 c3_i32_1550
  let c8191_i32_1551 : BitVec 32 := 8191#32
  let v3700 : BitVec 32 := Scalar.andi v3699 c8191_i32_1551
  let c8_i32_1552 : BitVec 32 := 8#32
  let v3701 : BitVec 32 := Scalar.muli v3700 c8_i32_1552
  v3701

def k0_off1964 (v3698 : BitVec 32) : Fin 2 → Nat :=
  let c3_i32_1550 : BitVec 32 := 3#32
  let v3699 : BitVec 32 := Scalar.shrsi v3698 c3_i32_1550
  let c8191_i32_1551 : BitVec 32 := 8191#32
  let v3700 : BitVec 32 := Scalar.andi v3699 c8191_i32_1551
  let c8_i32_1552 : BitVec 32 := 8#32
  let v3701 : BitVec 32 := Scalar.muli v3700 c8_i32_1552
  let v3702 : BitVec 32 := v3701
  let v3703 : Index := Scalar.indexCast v3702
  let c0_1553 : Index := 0#32
  ![v3703.toNat, 0]
def k0_off1965 (v3698 : BitVec 32) : Fin 2 → Nat :=
  let c3_i32_1550 : BitVec 32 := 3#32
  let v3699 : BitVec 32 := Scalar.shrsi v3698 c3_i32_1550
  let c8191_i32_1551 : BitVec 32 := 8191#32
  let v3700 : BitVec 32 := Scalar.andi v3699 c8191_i32_1551
  let v3708 : Index := Scalar.indexCast v3700
  let c0_1555 : Index := 0#32
  ![v3708.toNat, 0]

def k0_chk732 (i : grid0.Coords) (v48 : BitVec 32) (v3698 : BitVec 32) : Prop :=
  (∀ (k0_h10 : k0_cond10 i v48 = 1#1), 8 ∣ (k0_mult726 v3698).toNat) ∧
  (∀ (k0_h10 : k0_cond10 i v48 = 1#1), ∀ a, (k0_off1964 v3698) a + S8x128.size a ≤ S65536x128.size a) ∧
  (∀ (k0_h10 : k0_cond10 i v48 = 1#1), ∀ a, (k0_off1965 v3698) a + S1x128.size a ≤ S8192x128.size a)
theorem k0_mult726_dvd : ∀ (i : grid0.Coords) (v48 : BitVec 32) (v3698 : BitVec 32) (k0_hw732 : k0_chk732 i v48 v3698), ∀ (k0_h10 : k0_cond10 i v48 = 1#1), 8 ∣ (k0_mult726 v3698).toNat := fun i v48 v3698 k0_hw732 k0_h10 => k0_hw732.1 k0_h10
theorem k0_off1964_inb : ∀ (i : grid0.Coords) (v48 : BitVec 32) (v3698 : BitVec 32) (k0_hw732 : k0_chk732 i v48 v3698), ∀ (k0_h10 : k0_cond10 i v48 = 1#1), ∀ a, (k0_off1964 v3698) a + S8x128.size a ≤ S65536x128.size a := fun i v48 v3698 k0_hw732 k0_h10 => k0_hw732.2.1 k0_h10
theorem k0_off1965_inb : ∀ (i : grid0.Coords) (v48 : BitVec 32) (v3698 : BitVec 32) (k0_hw732 : k0_chk732 i v48 v3698), ∀ (k0_h10 : k0_cond10 i v48 = 1#1), ∀ a, (k0_off1965 v3698) a + S1x128.size a ≤ S8192x128.size a := fun i v48 v3698 k0_hw732 k0_h10 => k0_hw732.2.2 k0_h10

def k0_off1966 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c214_i32 : BitVec 32 := 214#32
  let v3713 : BitVec 32 := Scalar.addi v74 c214_i32
  let v3714 : Index := Scalar.indexCast v3713
  ![v3714.toNat]
def k0_mult727 (v3715 : BitVec 32) : BitVec 32 :=
  let c3_i32_1557 : BitVec 32 := 3#32
  let v3716 : BitVec 32 := Scalar.shrsi v3715 c3_i32_1557
  let c8191_i32_1558 : BitVec 32 := 8191#32
  let v3717 : BitVec 32 := Scalar.andi v3716 c8191_i32_1558
  let c8_i32_1559 : BitVec 32 := 8#32
  let v3718 : BitVec 32 := Scalar.muli v3717 c8_i32_1559
  v3718

def k0_off1967 (v3715 : BitVec 32) : Fin 2 → Nat :=
  let c3_i32_1557 : BitVec 32 := 3#32
  let v3716 : BitVec 32 := Scalar.shrsi v3715 c3_i32_1557
  let c8191_i32_1558 : BitVec 32 := 8191#32
  let v3717 : BitVec 32 := Scalar.andi v3716 c8191_i32_1558
  let c8_i32_1559 : BitVec 32 := 8#32
  let v3718 : BitVec 32 := Scalar.muli v3717 c8_i32_1559
  let v3719 : BitVec 32 := v3718
  let v3720 : Index := Scalar.indexCast v3719
  let c0_1560 : Index := 0#32
  ![v3720.toNat, 0]
def k0_off1968 (v3715 : BitVec 32) : Fin 2 → Nat :=
  let c3_i32_1557 : BitVec 32 := 3#32
  let v3716 : BitVec 32 := Scalar.shrsi v3715 c3_i32_1557
  let c8191_i32_1558 : BitVec 32 := 8191#32
  let v3717 : BitVec 32 := Scalar.andi v3716 c8191_i32_1558
  let v3725 : Index := Scalar.indexCast v3717
  let c0_1562 : Index := 0#32
  ![v3725.toNat, 0]

def k0_chk733 (i : grid0.Coords) (v48 : BitVec 32) (v3715 : BitVec 32) : Prop :=
  (∀ (k0_h10 : k0_cond10 i v48 = 1#1), 8 ∣ (k0_mult727 v3715).toNat) ∧
  (∀ (k0_h10 : k0_cond10 i v48 = 1#1), ∀ a, (k0_off1967 v3715) a + S8x128.size a ≤ S65536x128.size a) ∧
  (∀ (k0_h10 : k0_cond10 i v48 = 1#1), ∀ a, (k0_off1968 v3715) a + S1x128.size a ≤ S8192x128.size a)
theorem k0_mult727_dvd : ∀ (i : grid0.Coords) (v48 : BitVec 32) (v3715 : BitVec 32) (k0_hw733 : k0_chk733 i v48 v3715), ∀ (k0_h10 : k0_cond10 i v48 = 1#1), 8 ∣ (k0_mult727 v3715).toNat := fun i v48 v3715 k0_hw733 k0_h10 => k0_hw733.1 k0_h10
theorem k0_off1967_inb : ∀ (i : grid0.Coords) (v48 : BitVec 32) (v3715 : BitVec 32) (k0_hw733 : k0_chk733 i v48 v3715), ∀ (k0_h10 : k0_cond10 i v48 = 1#1), ∀ a, (k0_off1967 v3715) a + S8x128.size a ≤ S65536x128.size a := fun i v48 v3715 k0_hw733 k0_h10 => k0_hw733.2.1 k0_h10
theorem k0_off1968_inb : ∀ (i : grid0.Coords) (v48 : BitVec 32) (v3715 : BitVec 32) (k0_hw733 : k0_chk733 i v48 v3715), ∀ (k0_h10 : k0_cond10 i v48 = 1#1), ∀ a, (k0_off1968 v3715) a + S1x128.size a ≤ S8192x128.size a := fun i v48 v3715 k0_hw733 k0_h10 => k0_hw733.2.2 k0_h10

def k0_off1969 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c215_i32 : BitVec 32 := 215#32
  let v3730 : BitVec 32 := Scalar.addi v74 c215_i32
  let v3731 : Index := Scalar.indexCast v3730
  ![v3731.toNat]
def k0_mult728 (v3732 : BitVec 32) : BitVec 32 :=
  let c3_i32_1564 : BitVec 32 := 3#32
  let v3733 : BitVec 32 := Scalar.shrsi v3732 c3_i32_1564
  let c8191_i32_1565 : BitVec 32 := 8191#32
  let v3734 : BitVec 32 := Scalar.andi v3733 c8191_i32_1565
  let c8_i32_1566 : BitVec 32 := 8#32
  let v3735 : BitVec 32 := Scalar.muli v3734 c8_i32_1566
  v3735

def k0_off1970 (v3732 : BitVec 32) : Fin 2 → Nat :=
  let c3_i32_1564 : BitVec 32 := 3#32
  let v3733 : BitVec 32 := Scalar.shrsi v3732 c3_i32_1564
  let c8191_i32_1565 : BitVec 32 := 8191#32
  let v3734 : BitVec 32 := Scalar.andi v3733 c8191_i32_1565
  let c8_i32_1566 : BitVec 32 := 8#32
  let v3735 : BitVec 32 := Scalar.muli v3734 c8_i32_1566
  let v3736 : BitVec 32 := v3735
  let v3737 : Index := Scalar.indexCast v3736
  let c0_1567 : Index := 0#32
  ![v3737.toNat, 0]
def k0_off1971 (v3732 : BitVec 32) : Fin 2 → Nat :=
  let c3_i32_1564 : BitVec 32 := 3#32
  let v3733 : BitVec 32 := Scalar.shrsi v3732 c3_i32_1564
  let c8191_i32_1565 : BitVec 32 := 8191#32
  let v3734 : BitVec 32 := Scalar.andi v3733 c8191_i32_1565
  let v3742 : Index := Scalar.indexCast v3734
  let c0_1569 : Index := 0#32
  ![v3742.toNat, 0]

def k0_chk734 (i : grid0.Coords) (v48 : BitVec 32) (v3732 : BitVec 32) : Prop :=
  (∀ (k0_h10 : k0_cond10 i v48 = 1#1), 8 ∣ (k0_mult728 v3732).toNat) ∧
  (∀ (k0_h10 : k0_cond10 i v48 = 1#1), ∀ a, (k0_off1970 v3732) a + S8x128.size a ≤ S65536x128.size a) ∧
  (∀ (k0_h10 : k0_cond10 i v48 = 1#1), ∀ a, (k0_off1971 v3732) a + S1x128.size a ≤ S8192x128.size a)
theorem k0_mult728_dvd : ∀ (i : grid0.Coords) (v48 : BitVec 32) (v3732 : BitVec 32) (k0_hw734 : k0_chk734 i v48 v3732), ∀ (k0_h10 : k0_cond10 i v48 = 1#1), 8 ∣ (k0_mult728 v3732).toNat := fun i v48 v3732 k0_hw734 k0_h10 => k0_hw734.1 k0_h10
theorem k0_off1970_inb : ∀ (i : grid0.Coords) (v48 : BitVec 32) (v3732 : BitVec 32) (k0_hw734 : k0_chk734 i v48 v3732), ∀ (k0_h10 : k0_cond10 i v48 = 1#1), ∀ a, (k0_off1970 v3732) a + S8x128.size a ≤ S65536x128.size a := fun i v48 v3732 k0_hw734 k0_h10 => k0_hw734.2.1 k0_h10
theorem k0_off1971_inb : ∀ (i : grid0.Coords) (v48 : BitVec 32) (v3732 : BitVec 32) (k0_hw734 : k0_chk734 i v48 v3732), ∀ (k0_h10 : k0_cond10 i v48 = 1#1), ∀ a, (k0_off1971 v3732) a + S1x128.size a ≤ S8192x128.size a := fun i v48 v3732 k0_hw734 k0_h10 => k0_hw734.2.2 k0_h10

def k0_off1972 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c216_i32 : BitVec 32 := 216#32
  let v3747 : BitVec 32 := Scalar.addi v74 c216_i32
  let v3748 : Index := Scalar.indexCast v3747
  ![v3748.toNat]
def k0_mult729 (v3749 : BitVec 32) : BitVec 32 :=
  let c3_i32_1571 : BitVec 32 := 3#32
  let v3750 : BitVec 32 := Scalar.shrsi v3749 c3_i32_1571
  let c8191_i32_1572 : BitVec 32 := 8191#32
  let v3751 : BitVec 32 := Scalar.andi v3750 c8191_i32_1572
  let c8_i32_1573 : BitVec 32 := 8#32
  let v3752 : BitVec 32 := Scalar.muli v3751 c8_i32_1573
  v3752

def k0_off1973 (v3749 : BitVec 32) : Fin 2 → Nat :=
  let c3_i32_1571 : BitVec 32 := 3#32
  let v3750 : BitVec 32 := Scalar.shrsi v3749 c3_i32_1571
  let c8191_i32_1572 : BitVec 32 := 8191#32
  let v3751 : BitVec 32 := Scalar.andi v3750 c8191_i32_1572
  let c8_i32_1573 : BitVec 32 := 8#32
  let v3752 : BitVec 32 := Scalar.muli v3751 c8_i32_1573
  let v3753 : BitVec 32 := v3752
  let v3754 : Index := Scalar.indexCast v3753
  let c0_1574 : Index := 0#32
  ![v3754.toNat, 0]
def k0_off1974 (v3749 : BitVec 32) : Fin 2 → Nat :=
  let c3_i32_1571 : BitVec 32 := 3#32
  let v3750 : BitVec 32 := Scalar.shrsi v3749 c3_i32_1571
  let c8191_i32_1572 : BitVec 32 := 8191#32
  let v3751 : BitVec 32 := Scalar.andi v3750 c8191_i32_1572
  let v3759 : Index := Scalar.indexCast v3751
  let c0_1576 : Index := 0#32
  ![v3759.toNat, 0]

def k0_chk735 (i : grid0.Coords) (v48 : BitVec 32) (v3749 : BitVec 32) : Prop :=
  (∀ (k0_h10 : k0_cond10 i v48 = 1#1), 8 ∣ (k0_mult729 v3749).toNat) ∧
  (∀ (k0_h10 : k0_cond10 i v48 = 1#1), ∀ a, (k0_off1973 v3749) a + S8x128.size a ≤ S65536x128.size a) ∧
  (∀ (k0_h10 : k0_cond10 i v48 = 1#1), ∀ a, (k0_off1974 v3749) a + S1x128.size a ≤ S8192x128.size a)
theorem k0_mult729_dvd : ∀ (i : grid0.Coords) (v48 : BitVec 32) (v3749 : BitVec 32) (k0_hw735 : k0_chk735 i v48 v3749), ∀ (k0_h10 : k0_cond10 i v48 = 1#1), 8 ∣ (k0_mult729 v3749).toNat := fun i v48 v3749 k0_hw735 k0_h10 => k0_hw735.1 k0_h10
theorem k0_off1973_inb : ∀ (i : grid0.Coords) (v48 : BitVec 32) (v3749 : BitVec 32) (k0_hw735 : k0_chk735 i v48 v3749), ∀ (k0_h10 : k0_cond10 i v48 = 1#1), ∀ a, (k0_off1973 v3749) a + S8x128.size a ≤ S65536x128.size a := fun i v48 v3749 k0_hw735 k0_h10 => k0_hw735.2.1 k0_h10
theorem k0_off1974_inb : ∀ (i : grid0.Coords) (v48 : BitVec 32) (v3749 : BitVec 32) (k0_hw735 : k0_chk735 i v48 v3749), ∀ (k0_h10 : k0_cond10 i v48 = 1#1), ∀ a, (k0_off1974 v3749) a + S1x128.size a ≤ S8192x128.size a := fun i v48 v3749 k0_hw735 k0_h10 => k0_hw735.2.2 k0_h10

def k0_off1975 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c217_i32 : BitVec 32 := 217#32
  let v3764 : BitVec 32 := Scalar.addi v74 c217_i32
  let v3765 : Index := Scalar.indexCast v3764
  ![v3765.toNat]
def k0_mult730 (v3766 : BitVec 32) : BitVec 32 :=
  let c3_i32_1579 : BitVec 32 := 3#32
  let v3767 : BitVec 32 := Scalar.shrsi v3766 c3_i32_1579
  let c8191_i32_1580 : BitVec 32 := 8191#32
  let v3768 : BitVec 32 := Scalar.andi v3767 c8191_i32_1580
  let c8_i32_1581 : BitVec 32 := 8#32
  let v3769 : BitVec 32 := Scalar.muli v3768 c8_i32_1581
  v3769

def k0_off1976 (v3766 : BitVec 32) : Fin 2 → Nat :=
  let c3_i32_1579 : BitVec 32 := 3#32
  let v3767 : BitVec 32 := Scalar.shrsi v3766 c3_i32_1579
  let c8191_i32_1580 : BitVec 32 := 8191#32
  let v3768 : BitVec 32 := Scalar.andi v3767 c8191_i32_1580
  let c8_i32_1581 : BitVec 32 := 8#32
  let v3769 : BitVec 32 := Scalar.muli v3768 c8_i32_1581
  let v3770 : BitVec 32 := v3769
  let v3771 : Index := Scalar.indexCast v3770
  let c0_1582 : Index := 0#32
  ![v3771.toNat, 0]
def k0_off1977 (v3766 : BitVec 32) : Fin 2 → Nat :=
  let c3_i32_1579 : BitVec 32 := 3#32
  let v3767 : BitVec 32 := Scalar.shrsi v3766 c3_i32_1579
  let c8191_i32_1580 : BitVec 32 := 8191#32
  let v3768 : BitVec 32 := Scalar.andi v3767 c8191_i32_1580
  let v3776 : Index := Scalar.indexCast v3768
  let c0_1584 : Index := 0#32
  ![v3776.toNat, 0]

def k0_chk736 (i : grid0.Coords) (v48 : BitVec 32) (v3766 : BitVec 32) : Prop :=
  (∀ (k0_h10 : k0_cond10 i v48 = 1#1), 8 ∣ (k0_mult730 v3766).toNat) ∧
  (∀ (k0_h10 : k0_cond10 i v48 = 1#1), ∀ a, (k0_off1976 v3766) a + S8x128.size a ≤ S65536x128.size a) ∧
  (∀ (k0_h10 : k0_cond10 i v48 = 1#1), ∀ a, (k0_off1977 v3766) a + S1x128.size a ≤ S8192x128.size a)
theorem k0_mult730_dvd : ∀ (i : grid0.Coords) (v48 : BitVec 32) (v3766 : BitVec 32) (k0_hw736 : k0_chk736 i v48 v3766), ∀ (k0_h10 : k0_cond10 i v48 = 1#1), 8 ∣ (k0_mult730 v3766).toNat := fun i v48 v3766 k0_hw736 k0_h10 => k0_hw736.1 k0_h10
theorem k0_off1976_inb : ∀ (i : grid0.Coords) (v48 : BitVec 32) (v3766 : BitVec 32) (k0_hw736 : k0_chk736 i v48 v3766), ∀ (k0_h10 : k0_cond10 i v48 = 1#1), ∀ a, (k0_off1976 v3766) a + S8x128.size a ≤ S65536x128.size a := fun i v48 v3766 k0_hw736 k0_h10 => k0_hw736.2.1 k0_h10
theorem k0_off1977_inb : ∀ (i : grid0.Coords) (v48 : BitVec 32) (v3766 : BitVec 32) (k0_hw736 : k0_chk736 i v48 v3766), ∀ (k0_h10 : k0_cond10 i v48 = 1#1), ∀ a, (k0_off1977 v3766) a + S1x128.size a ≤ S8192x128.size a := fun i v48 v3766 k0_hw736 k0_h10 => k0_hw736.2.2 k0_h10

def k0_off1978 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c218_i32 : BitVec 32 := 218#32
  let v3781 : BitVec 32 := Scalar.addi v74 c218_i32
  let v3782 : Index := Scalar.indexCast v3781
  ![v3782.toNat]
def k0_mult731 (v3783 : BitVec 32) : BitVec 32 :=
  let c3_i32_1586 : BitVec 32 := 3#32
  let v3784 : BitVec 32 := Scalar.shrsi v3783 c3_i32_1586
  let c8191_i32_1587 : BitVec 32 := 8191#32
  let v3785 : BitVec 32 := Scalar.andi v3784 c8191_i32_1587
  let c8_i32_1588 : BitVec 32 := 8#32
  let v3786 : BitVec 32 := Scalar.muli v3785 c8_i32_1588
  v3786

def k0_off1979 (v3783 : BitVec 32) : Fin 2 → Nat :=
  let c3_i32_1586 : BitVec 32 := 3#32
  let v3784 : BitVec 32 := Scalar.shrsi v3783 c3_i32_1586
  let c8191_i32_1587 : BitVec 32 := 8191#32
  let v3785 : BitVec 32 := Scalar.andi v3784 c8191_i32_1587
  let c8_i32_1588 : BitVec 32 := 8#32
  let v3786 : BitVec 32 := Scalar.muli v3785 c8_i32_1588
  let v3787 : BitVec 32 := v3786
  let v3788 : Index := Scalar.indexCast v3787
  let c0_1589 : Index := 0#32
  ![v3788.toNat, 0]
def k0_off1980 (v3783 : BitVec 32) : Fin 2 → Nat :=
  let c3_i32_1586 : BitVec 32 := 3#32
  let v3784 : BitVec 32 := Scalar.shrsi v3783 c3_i32_1586
  let c8191_i32_1587 : BitVec 32 := 8191#32
  let v3785 : BitVec 32 := Scalar.andi v3784 c8191_i32_1587
  let v3793 : Index := Scalar.indexCast v3785
  let c0_1591 : Index := 0#32
  ![v3793.toNat, 0]

def k0_chk737 (i : grid0.Coords) (v48 : BitVec 32) (v3783 : BitVec 32) : Prop :=
  (∀ (k0_h10 : k0_cond10 i v48 = 1#1), 8 ∣ (k0_mult731 v3783).toNat) ∧
  (∀ (k0_h10 : k0_cond10 i v48 = 1#1), ∀ a, (k0_off1979 v3783) a + S8x128.size a ≤ S65536x128.size a) ∧
  (∀ (k0_h10 : k0_cond10 i v48 = 1#1), ∀ a, (k0_off1980 v3783) a + S1x128.size a ≤ S8192x128.size a)
theorem k0_mult731_dvd : ∀ (i : grid0.Coords) (v48 : BitVec 32) (v3783 : BitVec 32) (k0_hw737 : k0_chk737 i v48 v3783), ∀ (k0_h10 : k0_cond10 i v48 = 1#1), 8 ∣ (k0_mult731 v3783).toNat := fun i v48 v3783 k0_hw737 k0_h10 => k0_hw737.1 k0_h10
theorem k0_off1979_inb : ∀ (i : grid0.Coords) (v48 : BitVec 32) (v3783 : BitVec 32) (k0_hw737 : k0_chk737 i v48 v3783), ∀ (k0_h10 : k0_cond10 i v48 = 1#1), ∀ a, (k0_off1979 v3783) a + S8x128.size a ≤ S65536x128.size a := fun i v48 v3783 k0_hw737 k0_h10 => k0_hw737.2.1 k0_h10
theorem k0_off1980_inb : ∀ (i : grid0.Coords) (v48 : BitVec 32) (v3783 : BitVec 32) (k0_hw737 : k0_chk737 i v48 v3783), ∀ (k0_h10 : k0_cond10 i v48 = 1#1), ∀ a, (k0_off1980 v3783) a + S1x128.size a ≤ S8192x128.size a := fun i v48 v3783 k0_hw737 k0_h10 => k0_hw737.2.2 k0_h10

def k0_off1981 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c219_i32 : BitVec 32 := 219#32
  let v3798 : BitVec 32 := Scalar.addi v74 c219_i32
  let v3799 : Index := Scalar.indexCast v3798
  ![v3799.toNat]
def k0_mult732 (v3800 : BitVec 32) : BitVec 32 :=
  let c3_i32_1593 : BitVec 32 := 3#32
  let v3801 : BitVec 32 := Scalar.shrsi v3800 c3_i32_1593
  let c8191_i32_1594 : BitVec 32 := 8191#32
  let v3802 : BitVec 32 := Scalar.andi v3801 c8191_i32_1594
  let c8_i32_1595 : BitVec 32 := 8#32
  let v3803 : BitVec 32 := Scalar.muli v3802 c8_i32_1595
  v3803

def k0_off1982 (v3800 : BitVec 32) : Fin 2 → Nat :=
  let c3_i32_1593 : BitVec 32 := 3#32
  let v3801 : BitVec 32 := Scalar.shrsi v3800 c3_i32_1593
  let c8191_i32_1594 : BitVec 32 := 8191#32
  let v3802 : BitVec 32 := Scalar.andi v3801 c8191_i32_1594
  let c8_i32_1595 : BitVec 32 := 8#32
  let v3803 : BitVec 32 := Scalar.muli v3802 c8_i32_1595
  let v3804 : BitVec 32 := v3803
  let v3805 : Index := Scalar.indexCast v3804
  let c0_1596 : Index := 0#32
  ![v3805.toNat, 0]
def k0_off1983 (v3800 : BitVec 32) : Fin 2 → Nat :=
  let c3_i32_1593 : BitVec 32 := 3#32
  let v3801 : BitVec 32 := Scalar.shrsi v3800 c3_i32_1593
  let c8191_i32_1594 : BitVec 32 := 8191#32
  let v3802 : BitVec 32 := Scalar.andi v3801 c8191_i32_1594
  let v3810 : Index := Scalar.indexCast v3802
  let c0_1598 : Index := 0#32
  ![v3810.toNat, 0]

def k0_chk738 (i : grid0.Coords) (v48 : BitVec 32) (v3800 : BitVec 32) : Prop :=
  (∀ (k0_h10 : k0_cond10 i v48 = 1#1), 8 ∣ (k0_mult732 v3800).toNat) ∧
  (∀ (k0_h10 : k0_cond10 i v48 = 1#1), ∀ a, (k0_off1982 v3800) a + S8x128.size a ≤ S65536x128.size a) ∧
  (∀ (k0_h10 : k0_cond10 i v48 = 1#1), ∀ a, (k0_off1983 v3800) a + S1x128.size a ≤ S8192x128.size a)
theorem k0_mult732_dvd : ∀ (i : grid0.Coords) (v48 : BitVec 32) (v3800 : BitVec 32) (k0_hw738 : k0_chk738 i v48 v3800), ∀ (k0_h10 : k0_cond10 i v48 = 1#1), 8 ∣ (k0_mult732 v3800).toNat := fun i v48 v3800 k0_hw738 k0_h10 => k0_hw738.1 k0_h10
theorem k0_off1982_inb : ∀ (i : grid0.Coords) (v48 : BitVec 32) (v3800 : BitVec 32) (k0_hw738 : k0_chk738 i v48 v3800), ∀ (k0_h10 : k0_cond10 i v48 = 1#1), ∀ a, (k0_off1982 v3800) a + S8x128.size a ≤ S65536x128.size a := fun i v48 v3800 k0_hw738 k0_h10 => k0_hw738.2.1 k0_h10
theorem k0_off1983_inb : ∀ (i : grid0.Coords) (v48 : BitVec 32) (v3800 : BitVec 32) (k0_hw738 : k0_chk738 i v48 v3800), ∀ (k0_h10 : k0_cond10 i v48 = 1#1), ∀ a, (k0_off1983 v3800) a + S1x128.size a ≤ S8192x128.size a := fun i v48 v3800 k0_hw738 k0_h10 => k0_hw738.2.2 k0_h10

def k0_off1984 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c220_i32 : BitVec 32 := 220#32
  let v3815 : BitVec 32 := Scalar.addi v74 c220_i32
  let v3816 : Index := Scalar.indexCast v3815
  ![v3816.toNat]
def k0_mult733 (v3817 : BitVec 32) : BitVec 32 :=
  let c3_i32_1600 : BitVec 32 := 3#32
  let v3818 : BitVec 32 := Scalar.shrsi v3817 c3_i32_1600
  let c8191_i32_1601 : BitVec 32 := 8191#32
  let v3819 : BitVec 32 := Scalar.andi v3818 c8191_i32_1601
  let c8_i32_1602 : BitVec 32 := 8#32
  let v3820 : BitVec 32 := Scalar.muli v3819 c8_i32_1602
  v3820

def k0_off1985 (v3817 : BitVec 32) : Fin 2 → Nat :=
  let c3_i32_1600 : BitVec 32 := 3#32
  let v3818 : BitVec 32 := Scalar.shrsi v3817 c3_i32_1600
  let c8191_i32_1601 : BitVec 32 := 8191#32
  let v3819 : BitVec 32 := Scalar.andi v3818 c8191_i32_1601
  let c8_i32_1602 : BitVec 32 := 8#32
  let v3820 : BitVec 32 := Scalar.muli v3819 c8_i32_1602
  let v3821 : BitVec 32 := v3820
  let v3822 : Index := Scalar.indexCast v3821
  let c0_1603 : Index := 0#32
  ![v3822.toNat, 0]
def k0_off1986 (v3817 : BitVec 32) : Fin 2 → Nat :=
  let c3_i32_1600 : BitVec 32 := 3#32
  let v3818 : BitVec 32 := Scalar.shrsi v3817 c3_i32_1600
  let c8191_i32_1601 : BitVec 32 := 8191#32
  let v3819 : BitVec 32 := Scalar.andi v3818 c8191_i32_1601
  let v3827 : Index := Scalar.indexCast v3819
  let c0_1605 : Index := 0#32
  ![v3827.toNat, 0]

def k0_chk739 (i : grid0.Coords) (v48 : BitVec 32) (v3817 : BitVec 32) : Prop :=
  (∀ (k0_h10 : k0_cond10 i v48 = 1#1), 8 ∣ (k0_mult733 v3817).toNat) ∧
  (∀ (k0_h10 : k0_cond10 i v48 = 1#1), ∀ a, (k0_off1985 v3817) a + S8x128.size a ≤ S65536x128.size a) ∧
  (∀ (k0_h10 : k0_cond10 i v48 = 1#1), ∀ a, (k0_off1986 v3817) a + S1x128.size a ≤ S8192x128.size a)
theorem k0_mult733_dvd : ∀ (i : grid0.Coords) (v48 : BitVec 32) (v3817 : BitVec 32) (k0_hw739 : k0_chk739 i v48 v3817), ∀ (k0_h10 : k0_cond10 i v48 = 1#1), 8 ∣ (k0_mult733 v3817).toNat := fun i v48 v3817 k0_hw739 k0_h10 => k0_hw739.1 k0_h10
theorem k0_off1985_inb : ∀ (i : grid0.Coords) (v48 : BitVec 32) (v3817 : BitVec 32) (k0_hw739 : k0_chk739 i v48 v3817), ∀ (k0_h10 : k0_cond10 i v48 = 1#1), ∀ a, (k0_off1985 v3817) a + S8x128.size a ≤ S65536x128.size a := fun i v48 v3817 k0_hw739 k0_h10 => k0_hw739.2.1 k0_h10
theorem k0_off1986_inb : ∀ (i : grid0.Coords) (v48 : BitVec 32) (v3817 : BitVec 32) (k0_hw739 : k0_chk739 i v48 v3817), ∀ (k0_h10 : k0_cond10 i v48 = 1#1), ∀ a, (k0_off1986 v3817) a + S1x128.size a ≤ S8192x128.size a := fun i v48 v3817 k0_hw739 k0_h10 => k0_hw739.2.2 k0_h10

def k0_off1987 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c221_i32 : BitVec 32 := 221#32
  let v3832 : BitVec 32 := Scalar.addi v74 c221_i32
  let v3833 : Index := Scalar.indexCast v3832
  ![v3833.toNat]
def k0_mult734 (v3834 : BitVec 32) : BitVec 32 :=
  let c3_i32_1607 : BitVec 32 := 3#32
  let v3835 : BitVec 32 := Scalar.shrsi v3834 c3_i32_1607
  let c8191_i32_1608 : BitVec 32 := 8191#32
  let v3836 : BitVec 32 := Scalar.andi v3835 c8191_i32_1608
  let c8_i32_1609 : BitVec 32 := 8#32
  let v3837 : BitVec 32 := Scalar.muli v3836 c8_i32_1609
  v3837

def k0_off1988 (v3834 : BitVec 32) : Fin 2 → Nat :=
  let c3_i32_1607 : BitVec 32 := 3#32
  let v3835 : BitVec 32 := Scalar.shrsi v3834 c3_i32_1607
  let c8191_i32_1608 : BitVec 32 := 8191#32
  let v3836 : BitVec 32 := Scalar.andi v3835 c8191_i32_1608
  let c8_i32_1609 : BitVec 32 := 8#32
  let v3837 : BitVec 32 := Scalar.muli v3836 c8_i32_1609
  let v3838 : BitVec 32 := v3837
  let v3839 : Index := Scalar.indexCast v3838
  let c0_1610 : Index := 0#32
  ![v3839.toNat, 0]
def k0_off1989 (v3834 : BitVec 32) : Fin 2 → Nat :=
  let c3_i32_1607 : BitVec 32 := 3#32
  let v3835 : BitVec 32 := Scalar.shrsi v3834 c3_i32_1607
  let c8191_i32_1608 : BitVec 32 := 8191#32
  let v3836 : BitVec 32 := Scalar.andi v3835 c8191_i32_1608
  let v3844 : Index := Scalar.indexCast v3836
  let c0_1612 : Index := 0#32
  ![v3844.toNat, 0]

def k0_chk740 (i : grid0.Coords) (v48 : BitVec 32) (v3834 : BitVec 32) : Prop :=
  (∀ (k0_h10 : k0_cond10 i v48 = 1#1), 8 ∣ (k0_mult734 v3834).toNat) ∧
  (∀ (k0_h10 : k0_cond10 i v48 = 1#1), ∀ a, (k0_off1988 v3834) a + S8x128.size a ≤ S65536x128.size a) ∧
  (∀ (k0_h10 : k0_cond10 i v48 = 1#1), ∀ a, (k0_off1989 v3834) a + S1x128.size a ≤ S8192x128.size a)
theorem k0_mult734_dvd : ∀ (i : grid0.Coords) (v48 : BitVec 32) (v3834 : BitVec 32) (k0_hw740 : k0_chk740 i v48 v3834), ∀ (k0_h10 : k0_cond10 i v48 = 1#1), 8 ∣ (k0_mult734 v3834).toNat := fun i v48 v3834 k0_hw740 k0_h10 => k0_hw740.1 k0_h10
theorem k0_off1988_inb : ∀ (i : grid0.Coords) (v48 : BitVec 32) (v3834 : BitVec 32) (k0_hw740 : k0_chk740 i v48 v3834), ∀ (k0_h10 : k0_cond10 i v48 = 1#1), ∀ a, (k0_off1988 v3834) a + S8x128.size a ≤ S65536x128.size a := fun i v48 v3834 k0_hw740 k0_h10 => k0_hw740.2.1 k0_h10
theorem k0_off1989_inb : ∀ (i : grid0.Coords) (v48 : BitVec 32) (v3834 : BitVec 32) (k0_hw740 : k0_chk740 i v48 v3834), ∀ (k0_h10 : k0_cond10 i v48 = 1#1), ∀ a, (k0_off1989 v3834) a + S1x128.size a ≤ S8192x128.size a := fun i v48 v3834 k0_hw740 k0_h10 => k0_hw740.2.2 k0_h10

def k0_off1990 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c222_i32 : BitVec 32 := 222#32
  let v3849 : BitVec 32 := Scalar.addi v74 c222_i32
  let v3850 : Index := Scalar.indexCast v3849
  ![v3850.toNat]
def k0_mult735 (v3851 : BitVec 32) : BitVec 32 :=
  let c3_i32_1614 : BitVec 32 := 3#32
  let v3852 : BitVec 32 := Scalar.shrsi v3851 c3_i32_1614
  let c8191_i32_1615 : BitVec 32 := 8191#32
  let v3853 : BitVec 32 := Scalar.andi v3852 c8191_i32_1615
  let c8_i32_1616 : BitVec 32 := 8#32
  let v3854 : BitVec 32 := Scalar.muli v3853 c8_i32_1616
  v3854

def k0_off1991 (v3851 : BitVec 32) : Fin 2 → Nat :=
  let c3_i32_1614 : BitVec 32 := 3#32
  let v3852 : BitVec 32 := Scalar.shrsi v3851 c3_i32_1614
  let c8191_i32_1615 : BitVec 32 := 8191#32
  let v3853 : BitVec 32 := Scalar.andi v3852 c8191_i32_1615
  let c8_i32_1616 : BitVec 32 := 8#32
  let v3854 : BitVec 32 := Scalar.muli v3853 c8_i32_1616
  let v3855 : BitVec 32 := v3854
  let v3856 : Index := Scalar.indexCast v3855
  let c0_1617 : Index := 0#32
  ![v3856.toNat, 0]
def k0_off1992 (v3851 : BitVec 32) : Fin 2 → Nat :=
  let c3_i32_1614 : BitVec 32 := 3#32
  let v3852 : BitVec 32 := Scalar.shrsi v3851 c3_i32_1614
  let c8191_i32_1615 : BitVec 32 := 8191#32
  let v3853 : BitVec 32 := Scalar.andi v3852 c8191_i32_1615
  let v3861 : Index := Scalar.indexCast v3853
  let c0_1619 : Index := 0#32
  ![v3861.toNat, 0]

def k0_chk741 (i : grid0.Coords) (v48 : BitVec 32) (v3851 : BitVec 32) : Prop :=
  (∀ (k0_h10 : k0_cond10 i v48 = 1#1), 8 ∣ (k0_mult735 v3851).toNat) ∧
  (∀ (k0_h10 : k0_cond10 i v48 = 1#1), ∀ a, (k0_off1991 v3851) a + S8x128.size a ≤ S65536x128.size a) ∧
  (∀ (k0_h10 : k0_cond10 i v48 = 1#1), ∀ a, (k0_off1992 v3851) a + S1x128.size a ≤ S8192x128.size a)
theorem k0_mult735_dvd : ∀ (i : grid0.Coords) (v48 : BitVec 32) (v3851 : BitVec 32) (k0_hw741 : k0_chk741 i v48 v3851), ∀ (k0_h10 : k0_cond10 i v48 = 1#1), 8 ∣ (k0_mult735 v3851).toNat := fun i v48 v3851 k0_hw741 k0_h10 => k0_hw741.1 k0_h10
theorem k0_off1991_inb : ∀ (i : grid0.Coords) (v48 : BitVec 32) (v3851 : BitVec 32) (k0_hw741 : k0_chk741 i v48 v3851), ∀ (k0_h10 : k0_cond10 i v48 = 1#1), ∀ a, (k0_off1991 v3851) a + S8x128.size a ≤ S65536x128.size a := fun i v48 v3851 k0_hw741 k0_h10 => k0_hw741.2.1 k0_h10
theorem k0_off1992_inb : ∀ (i : grid0.Coords) (v48 : BitVec 32) (v3851 : BitVec 32) (k0_hw741 : k0_chk741 i v48 v3851), ∀ (k0_h10 : k0_cond10 i v48 = 1#1), ∀ a, (k0_off1992 v3851) a + S1x128.size a ≤ S8192x128.size a := fun i v48 v3851 k0_hw741 k0_h10 => k0_hw741.2.2 k0_h10

def k0_off1993 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c223_i32 : BitVec 32 := 223#32
  let v3866 : BitVec 32 := Scalar.addi v74 c223_i32
  let v3867 : Index := Scalar.indexCast v3866
  ![v3867.toNat]
def k0_mult736 (v3868 : BitVec 32) : BitVec 32 :=
  let c3_i32_1621 : BitVec 32 := 3#32
  let v3869 : BitVec 32 := Scalar.shrsi v3868 c3_i32_1621
  let c8191_i32_1622 : BitVec 32 := 8191#32
  let v3870 : BitVec 32 := Scalar.andi v3869 c8191_i32_1622
  let c8_i32_1623 : BitVec 32 := 8#32
  let v3871 : BitVec 32 := Scalar.muli v3870 c8_i32_1623
  v3871

def k0_off1994 (v3868 : BitVec 32) : Fin 2 → Nat :=
  let c3_i32_1621 : BitVec 32 := 3#32
  let v3869 : BitVec 32 := Scalar.shrsi v3868 c3_i32_1621
  let c8191_i32_1622 : BitVec 32 := 8191#32
  let v3870 : BitVec 32 := Scalar.andi v3869 c8191_i32_1622
  let c8_i32_1623 : BitVec 32 := 8#32
  let v3871 : BitVec 32 := Scalar.muli v3870 c8_i32_1623
  let v3872 : BitVec 32 := v3871
  let v3873 : Index := Scalar.indexCast v3872
  let c0_1624 : Index := 0#32
  ![v3873.toNat, 0]
def k0_off1995 (v3868 : BitVec 32) : Fin 2 → Nat :=
  let c3_i32_1621 : BitVec 32 := 3#32
  let v3869 : BitVec 32 := Scalar.shrsi v3868 c3_i32_1621
  let c8191_i32_1622 : BitVec 32 := 8191#32
  let v3870 : BitVec 32 := Scalar.andi v3869 c8191_i32_1622
  let v3878 : Index := Scalar.indexCast v3870
  let c0_1626 : Index := 0#32
  ![v3878.toNat, 0]

def k0_chk742 (i : grid0.Coords) (v48 : BitVec 32) (v3868 : BitVec 32) : Prop :=
  (∀ (k0_h10 : k0_cond10 i v48 = 1#1), 8 ∣ (k0_mult736 v3868).toNat) ∧
  (∀ (k0_h10 : k0_cond10 i v48 = 1#1), ∀ a, (k0_off1994 v3868) a + S8x128.size a ≤ S65536x128.size a) ∧
  (∀ (k0_h10 : k0_cond10 i v48 = 1#1), ∀ a, (k0_off1995 v3868) a + S1x128.size a ≤ S8192x128.size a)
theorem k0_mult736_dvd : ∀ (i : grid0.Coords) (v48 : BitVec 32) (v3868 : BitVec 32) (k0_hw742 : k0_chk742 i v48 v3868), ∀ (k0_h10 : k0_cond10 i v48 = 1#1), 8 ∣ (k0_mult736 v3868).toNat := fun i v48 v3868 k0_hw742 k0_h10 => k0_hw742.1 k0_h10
theorem k0_off1994_inb : ∀ (i : grid0.Coords) (v48 : BitVec 32) (v3868 : BitVec 32) (k0_hw742 : k0_chk742 i v48 v3868), ∀ (k0_h10 : k0_cond10 i v48 = 1#1), ∀ a, (k0_off1994 v3868) a + S8x128.size a ≤ S65536x128.size a := fun i v48 v3868 k0_hw742 k0_h10 => k0_hw742.2.1 k0_h10
theorem k0_off1995_inb : ∀ (i : grid0.Coords) (v48 : BitVec 32) (v3868 : BitVec 32) (k0_hw742 : k0_chk742 i v48 v3868), ∀ (k0_h10 : k0_cond10 i v48 = 1#1), ∀ a, (k0_off1995 v3868) a + S1x128.size a ≤ S8192x128.size a := fun i v48 v3868 k0_hw742 k0_h10 => k0_hw742.2.2 k0_h10

def k0_off1996 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c224_i32 : BitVec 32 := 224#32
  let v3883 : BitVec 32 := Scalar.addi v74 c224_i32
  let v3884 : Index := Scalar.indexCast v3883
  ![v3884.toNat]
def k0_mult737 (v3885 : BitVec 32) : BitVec 32 :=
  let c3_i32_1628 : BitVec 32 := 3#32
  let v3886 : BitVec 32 := Scalar.shrsi v3885 c3_i32_1628
  let c8191_i32_1629 : BitVec 32 := 8191#32
  let v3887 : BitVec 32 := Scalar.andi v3886 c8191_i32_1629
  let c8_i32_1630 : BitVec 32 := 8#32
  let v3888 : BitVec 32 := Scalar.muli v3887 c8_i32_1630
  v3888

def k0_off1997 (v3885 : BitVec 32) : Fin 2 → Nat :=
  let c3_i32_1628 : BitVec 32 := 3#32
  let v3886 : BitVec 32 := Scalar.shrsi v3885 c3_i32_1628
  let c8191_i32_1629 : BitVec 32 := 8191#32
  let v3887 : BitVec 32 := Scalar.andi v3886 c8191_i32_1629
  let c8_i32_1630 : BitVec 32 := 8#32
  let v3888 : BitVec 32 := Scalar.muli v3887 c8_i32_1630
  let v3889 : BitVec 32 := v3888
  let v3890 : Index := Scalar.indexCast v3889
  let c0_1631 : Index := 0#32
  ![v3890.toNat, 0]
def k0_off1998 (v3885 : BitVec 32) : Fin 2 → Nat :=
  let c3_i32_1628 : BitVec 32 := 3#32
  let v3886 : BitVec 32 := Scalar.shrsi v3885 c3_i32_1628
  let c8191_i32_1629 : BitVec 32 := 8191#32
  let v3887 : BitVec 32 := Scalar.andi v3886 c8191_i32_1629
  let v3895 : Index := Scalar.indexCast v3887
  let c0_1633 : Index := 0#32
  ![v3895.toNat, 0]

def k0_chk743 (i : grid0.Coords) (v48 : BitVec 32) (v3885 : BitVec 32) : Prop :=
  (∀ (k0_h10 : k0_cond10 i v48 = 1#1), 8 ∣ (k0_mult737 v3885).toNat) ∧
  (∀ (k0_h10 : k0_cond10 i v48 = 1#1), ∀ a, (k0_off1997 v3885) a + S8x128.size a ≤ S65536x128.size a) ∧
  (∀ (k0_h10 : k0_cond10 i v48 = 1#1), ∀ a, (k0_off1998 v3885) a + S1x128.size a ≤ S8192x128.size a)
theorem k0_mult737_dvd : ∀ (i : grid0.Coords) (v48 : BitVec 32) (v3885 : BitVec 32) (k0_hw743 : k0_chk743 i v48 v3885), ∀ (k0_h10 : k0_cond10 i v48 = 1#1), 8 ∣ (k0_mult737 v3885).toNat := fun i v48 v3885 k0_hw743 k0_h10 => k0_hw743.1 k0_h10
theorem k0_off1997_inb : ∀ (i : grid0.Coords) (v48 : BitVec 32) (v3885 : BitVec 32) (k0_hw743 : k0_chk743 i v48 v3885), ∀ (k0_h10 : k0_cond10 i v48 = 1#1), ∀ a, (k0_off1997 v3885) a + S8x128.size a ≤ S65536x128.size a := fun i v48 v3885 k0_hw743 k0_h10 => k0_hw743.2.1 k0_h10
theorem k0_off1998_inb : ∀ (i : grid0.Coords) (v48 : BitVec 32) (v3885 : BitVec 32) (k0_hw743 : k0_chk743 i v48 v3885), ∀ (k0_h10 : k0_cond10 i v48 = 1#1), ∀ a, (k0_off1998 v3885) a + S1x128.size a ≤ S8192x128.size a := fun i v48 v3885 k0_hw743 k0_h10 => k0_hw743.2.2 k0_h10

def k0_off1999 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c225_i32 : BitVec 32 := 225#32
  let v3900 : BitVec 32 := Scalar.addi v74 c225_i32
  let v3901 : Index := Scalar.indexCast v3900
  ![v3901.toNat]
def k0_mult738 (v3902 : BitVec 32) : BitVec 32 :=
  let c3_i32_1636 : BitVec 32 := 3#32
  let v3903 : BitVec 32 := Scalar.shrsi v3902 c3_i32_1636
  let c8191_i32_1637 : BitVec 32 := 8191#32
  let v3904 : BitVec 32 := Scalar.andi v3903 c8191_i32_1637
  let c8_i32_1638 : BitVec 32 := 8#32
  let v3905 : BitVec 32 := Scalar.muli v3904 c8_i32_1638
  v3905

def k0_off2000 (v3902 : BitVec 32) : Fin 2 → Nat :=
  let c3_i32_1636 : BitVec 32 := 3#32
  let v3903 : BitVec 32 := Scalar.shrsi v3902 c3_i32_1636
  let c8191_i32_1637 : BitVec 32 := 8191#32
  let v3904 : BitVec 32 := Scalar.andi v3903 c8191_i32_1637
  let c8_i32_1638 : BitVec 32 := 8#32
  let v3905 : BitVec 32 := Scalar.muli v3904 c8_i32_1638
  let v3906 : BitVec 32 := v3905
  let v3907 : Index := Scalar.indexCast v3906
  let c0_1639 : Index := 0#32
  ![v3907.toNat, 0]
def k0_off2001 (v3902 : BitVec 32) : Fin 2 → Nat :=
  let c3_i32_1636 : BitVec 32 := 3#32
  let v3903 : BitVec 32 := Scalar.shrsi v3902 c3_i32_1636
  let c8191_i32_1637 : BitVec 32 := 8191#32
  let v3904 : BitVec 32 := Scalar.andi v3903 c8191_i32_1637
  let v3912 : Index := Scalar.indexCast v3904
  let c0_1641 : Index := 0#32
  ![v3912.toNat, 0]

def k0_chk744 (i : grid0.Coords) (v48 : BitVec 32) (v3902 : BitVec 32) : Prop :=
  (∀ (k0_h10 : k0_cond10 i v48 = 1#1), 8 ∣ (k0_mult738 v3902).toNat) ∧
  (∀ (k0_h10 : k0_cond10 i v48 = 1#1), ∀ a, (k0_off2000 v3902) a + S8x128.size a ≤ S65536x128.size a) ∧
  (∀ (k0_h10 : k0_cond10 i v48 = 1#1), ∀ a, (k0_off2001 v3902) a + S1x128.size a ≤ S8192x128.size a)
theorem k0_mult738_dvd : ∀ (i : grid0.Coords) (v48 : BitVec 32) (v3902 : BitVec 32) (k0_hw744 : k0_chk744 i v48 v3902), ∀ (k0_h10 : k0_cond10 i v48 = 1#1), 8 ∣ (k0_mult738 v3902).toNat := fun i v48 v3902 k0_hw744 k0_h10 => k0_hw744.1 k0_h10
theorem k0_off2000_inb : ∀ (i : grid0.Coords) (v48 : BitVec 32) (v3902 : BitVec 32) (k0_hw744 : k0_chk744 i v48 v3902), ∀ (k0_h10 : k0_cond10 i v48 = 1#1), ∀ a, (k0_off2000 v3902) a + S8x128.size a ≤ S65536x128.size a := fun i v48 v3902 k0_hw744 k0_h10 => k0_hw744.2.1 k0_h10
theorem k0_off2001_inb : ∀ (i : grid0.Coords) (v48 : BitVec 32) (v3902 : BitVec 32) (k0_hw744 : k0_chk744 i v48 v3902), ∀ (k0_h10 : k0_cond10 i v48 = 1#1), ∀ a, (k0_off2001 v3902) a + S1x128.size a ≤ S8192x128.size a := fun i v48 v3902 k0_hw744 k0_h10 => k0_hw744.2.2 k0_h10

def k0_off2002 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c226_i32 : BitVec 32 := 226#32
  let v3917 : BitVec 32 := Scalar.addi v74 c226_i32
  let v3918 : Index := Scalar.indexCast v3917
  ![v3918.toNat]
def k0_mult739 (v3919 : BitVec 32) : BitVec 32 :=
  let c3_i32_1643 : BitVec 32 := 3#32
  let v3920 : BitVec 32 := Scalar.shrsi v3919 c3_i32_1643
  let c8191_i32_1644 : BitVec 32 := 8191#32
  let v3921 : BitVec 32 := Scalar.andi v3920 c8191_i32_1644
  let c8_i32_1645 : BitVec 32 := 8#32
  let v3922 : BitVec 32 := Scalar.muli v3921 c8_i32_1645
  v3922

def k0_off2003 (v3919 : BitVec 32) : Fin 2 → Nat :=
  let c3_i32_1643 : BitVec 32 := 3#32
  let v3920 : BitVec 32 := Scalar.shrsi v3919 c3_i32_1643
  let c8191_i32_1644 : BitVec 32 := 8191#32
  let v3921 : BitVec 32 := Scalar.andi v3920 c8191_i32_1644
  let c8_i32_1645 : BitVec 32 := 8#32
  let v3922 : BitVec 32 := Scalar.muli v3921 c8_i32_1645
  let v3923 : BitVec 32 := v3922
  let v3924 : Index := Scalar.indexCast v3923
  let c0_1646 : Index := 0#32
  ![v3924.toNat, 0]
def k0_off2004 (v3919 : BitVec 32) : Fin 2 → Nat :=
  let c3_i32_1643 : BitVec 32 := 3#32
  let v3920 : BitVec 32 := Scalar.shrsi v3919 c3_i32_1643
  let c8191_i32_1644 : BitVec 32 := 8191#32
  let v3921 : BitVec 32 := Scalar.andi v3920 c8191_i32_1644
  let v3929 : Index := Scalar.indexCast v3921
  let c0_1648 : Index := 0#32
  ![v3929.toNat, 0]

def k0_chk745 (i : grid0.Coords) (v48 : BitVec 32) (v3919 : BitVec 32) : Prop :=
  (∀ (k0_h10 : k0_cond10 i v48 = 1#1), 8 ∣ (k0_mult739 v3919).toNat) ∧
  (∀ (k0_h10 : k0_cond10 i v48 = 1#1), ∀ a, (k0_off2003 v3919) a + S8x128.size a ≤ S65536x128.size a) ∧
  (∀ (k0_h10 : k0_cond10 i v48 = 1#1), ∀ a, (k0_off2004 v3919) a + S1x128.size a ≤ S8192x128.size a)
theorem k0_mult739_dvd : ∀ (i : grid0.Coords) (v48 : BitVec 32) (v3919 : BitVec 32) (k0_hw745 : k0_chk745 i v48 v3919), ∀ (k0_h10 : k0_cond10 i v48 = 1#1), 8 ∣ (k0_mult739 v3919).toNat := fun i v48 v3919 k0_hw745 k0_h10 => k0_hw745.1 k0_h10
theorem k0_off2003_inb : ∀ (i : grid0.Coords) (v48 : BitVec 32) (v3919 : BitVec 32) (k0_hw745 : k0_chk745 i v48 v3919), ∀ (k0_h10 : k0_cond10 i v48 = 1#1), ∀ a, (k0_off2003 v3919) a + S8x128.size a ≤ S65536x128.size a := fun i v48 v3919 k0_hw745 k0_h10 => k0_hw745.2.1 k0_h10
theorem k0_off2004_inb : ∀ (i : grid0.Coords) (v48 : BitVec 32) (v3919 : BitVec 32) (k0_hw745 : k0_chk745 i v48 v3919), ∀ (k0_h10 : k0_cond10 i v48 = 1#1), ∀ a, (k0_off2004 v3919) a + S1x128.size a ≤ S8192x128.size a := fun i v48 v3919 k0_hw745 k0_h10 => k0_hw745.2.2 k0_h10

def k0_off2005 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c227_i32 : BitVec 32 := 227#32
  let v3934 : BitVec 32 := Scalar.addi v74 c227_i32
  let v3935 : Index := Scalar.indexCast v3934
  ![v3935.toNat]
def k0_mult740 (v3936 : BitVec 32) : BitVec 32 :=
  let c3_i32_1650 : BitVec 32 := 3#32
  let v3937 : BitVec 32 := Scalar.shrsi v3936 c3_i32_1650
  let c8191_i32_1651 : BitVec 32 := 8191#32
  let v3938 : BitVec 32 := Scalar.andi v3937 c8191_i32_1651
  let c8_i32_1652 : BitVec 32 := 8#32
  let v3939 : BitVec 32 := Scalar.muli v3938 c8_i32_1652
  v3939

def k0_off2006 (v3936 : BitVec 32) : Fin 2 → Nat :=
  let c3_i32_1650 : BitVec 32 := 3#32
  let v3937 : BitVec 32 := Scalar.shrsi v3936 c3_i32_1650
  let c8191_i32_1651 : BitVec 32 := 8191#32
  let v3938 : BitVec 32 := Scalar.andi v3937 c8191_i32_1651
  let c8_i32_1652 : BitVec 32 := 8#32
  let v3939 : BitVec 32 := Scalar.muli v3938 c8_i32_1652
  let v3940 : BitVec 32 := v3939
  let v3941 : Index := Scalar.indexCast v3940
  let c0_1653 : Index := 0#32
  ![v3941.toNat, 0]
def k0_off2007 (v3936 : BitVec 32) : Fin 2 → Nat :=
  let c3_i32_1650 : BitVec 32 := 3#32
  let v3937 : BitVec 32 := Scalar.shrsi v3936 c3_i32_1650
  let c8191_i32_1651 : BitVec 32 := 8191#32
  let v3938 : BitVec 32 := Scalar.andi v3937 c8191_i32_1651
  let v3946 : Index := Scalar.indexCast v3938
  let c0_1655 : Index := 0#32
  ![v3946.toNat, 0]

def k0_chk746 (i : grid0.Coords) (v48 : BitVec 32) (v3936 : BitVec 32) : Prop :=
  (∀ (k0_h10 : k0_cond10 i v48 = 1#1), 8 ∣ (k0_mult740 v3936).toNat) ∧
  (∀ (k0_h10 : k0_cond10 i v48 = 1#1), ∀ a, (k0_off2006 v3936) a + S8x128.size a ≤ S65536x128.size a) ∧
  (∀ (k0_h10 : k0_cond10 i v48 = 1#1), ∀ a, (k0_off2007 v3936) a + S1x128.size a ≤ S8192x128.size a)
theorem k0_mult740_dvd : ∀ (i : grid0.Coords) (v48 : BitVec 32) (v3936 : BitVec 32) (k0_hw746 : k0_chk746 i v48 v3936), ∀ (k0_h10 : k0_cond10 i v48 = 1#1), 8 ∣ (k0_mult740 v3936).toNat := fun i v48 v3936 k0_hw746 k0_h10 => k0_hw746.1 k0_h10
theorem k0_off2006_inb : ∀ (i : grid0.Coords) (v48 : BitVec 32) (v3936 : BitVec 32) (k0_hw746 : k0_chk746 i v48 v3936), ∀ (k0_h10 : k0_cond10 i v48 = 1#1), ∀ a, (k0_off2006 v3936) a + S8x128.size a ≤ S65536x128.size a := fun i v48 v3936 k0_hw746 k0_h10 => k0_hw746.2.1 k0_h10
theorem k0_off2007_inb : ∀ (i : grid0.Coords) (v48 : BitVec 32) (v3936 : BitVec 32) (k0_hw746 : k0_chk746 i v48 v3936), ∀ (k0_h10 : k0_cond10 i v48 = 1#1), ∀ a, (k0_off2007 v3936) a + S1x128.size a ≤ S8192x128.size a := fun i v48 v3936 k0_hw746 k0_h10 => k0_hw746.2.2 k0_h10

def k0_off2008 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c228_i32 : BitVec 32 := 228#32
  let v3951 : BitVec 32 := Scalar.addi v74 c228_i32
  let v3952 : Index := Scalar.indexCast v3951
  ![v3952.toNat]
def k0_mult741 (v3953 : BitVec 32) : BitVec 32 :=
  let c3_i32_1657 : BitVec 32 := 3#32
  let v3954 : BitVec 32 := Scalar.shrsi v3953 c3_i32_1657
  let c8191_i32_1658 : BitVec 32 := 8191#32
  let v3955 : BitVec 32 := Scalar.andi v3954 c8191_i32_1658
  let c8_i32_1659 : BitVec 32 := 8#32
  let v3956 : BitVec 32 := Scalar.muli v3955 c8_i32_1659
  v3956

def k0_off2009 (v3953 : BitVec 32) : Fin 2 → Nat :=
  let c3_i32_1657 : BitVec 32 := 3#32
  let v3954 : BitVec 32 := Scalar.shrsi v3953 c3_i32_1657
  let c8191_i32_1658 : BitVec 32 := 8191#32
  let v3955 : BitVec 32 := Scalar.andi v3954 c8191_i32_1658
  let c8_i32_1659 : BitVec 32 := 8#32
  let v3956 : BitVec 32 := Scalar.muli v3955 c8_i32_1659
  let v3957 : BitVec 32 := v3956
  let v3958 : Index := Scalar.indexCast v3957
  let c0_1660 : Index := 0#32
  ![v3958.toNat, 0]
def k0_off2010 (v3953 : BitVec 32) : Fin 2 → Nat :=
  let c3_i32_1657 : BitVec 32 := 3#32
  let v3954 : BitVec 32 := Scalar.shrsi v3953 c3_i32_1657
  let c8191_i32_1658 : BitVec 32 := 8191#32
  let v3955 : BitVec 32 := Scalar.andi v3954 c8191_i32_1658
  let v3963 : Index := Scalar.indexCast v3955
  let c0_1662 : Index := 0#32
  ![v3963.toNat, 0]

def k0_chk747 (i : grid0.Coords) (v48 : BitVec 32) (v3953 : BitVec 32) : Prop :=
  (∀ (k0_h10 : k0_cond10 i v48 = 1#1), 8 ∣ (k0_mult741 v3953).toNat) ∧
  (∀ (k0_h10 : k0_cond10 i v48 = 1#1), ∀ a, (k0_off2009 v3953) a + S8x128.size a ≤ S65536x128.size a) ∧
  (∀ (k0_h10 : k0_cond10 i v48 = 1#1), ∀ a, (k0_off2010 v3953) a + S1x128.size a ≤ S8192x128.size a)
theorem k0_mult741_dvd : ∀ (i : grid0.Coords) (v48 : BitVec 32) (v3953 : BitVec 32) (k0_hw747 : k0_chk747 i v48 v3953), ∀ (k0_h10 : k0_cond10 i v48 = 1#1), 8 ∣ (k0_mult741 v3953).toNat := fun i v48 v3953 k0_hw747 k0_h10 => k0_hw747.1 k0_h10
theorem k0_off2009_inb : ∀ (i : grid0.Coords) (v48 : BitVec 32) (v3953 : BitVec 32) (k0_hw747 : k0_chk747 i v48 v3953), ∀ (k0_h10 : k0_cond10 i v48 = 1#1), ∀ a, (k0_off2009 v3953) a + S8x128.size a ≤ S65536x128.size a := fun i v48 v3953 k0_hw747 k0_h10 => k0_hw747.2.1 k0_h10
theorem k0_off2010_inb : ∀ (i : grid0.Coords) (v48 : BitVec 32) (v3953 : BitVec 32) (k0_hw747 : k0_chk747 i v48 v3953), ∀ (k0_h10 : k0_cond10 i v48 = 1#1), ∀ a, (k0_off2010 v3953) a + S1x128.size a ≤ S8192x128.size a := fun i v48 v3953 k0_hw747 k0_h10 => k0_hw747.2.2 k0_h10

def k0_off2011 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c229_i32 : BitVec 32 := 229#32
  let v3968 : BitVec 32 := Scalar.addi v74 c229_i32
  let v3969 : Index := Scalar.indexCast v3968
  ![v3969.toNat]
def k0_mult742 (v3970 : BitVec 32) : BitVec 32 :=
  let c3_i32_1664 : BitVec 32 := 3#32
  let v3971 : BitVec 32 := Scalar.shrsi v3970 c3_i32_1664
  let c8191_i32_1665 : BitVec 32 := 8191#32
  let v3972 : BitVec 32 := Scalar.andi v3971 c8191_i32_1665
  let c8_i32_1666 : BitVec 32 := 8#32
  let v3973 : BitVec 32 := Scalar.muli v3972 c8_i32_1666
  v3973

def k0_off2012 (v3970 : BitVec 32) : Fin 2 → Nat :=
  let c3_i32_1664 : BitVec 32 := 3#32
  let v3971 : BitVec 32 := Scalar.shrsi v3970 c3_i32_1664
  let c8191_i32_1665 : BitVec 32 := 8191#32
  let v3972 : BitVec 32 := Scalar.andi v3971 c8191_i32_1665
  let c8_i32_1666 : BitVec 32 := 8#32
  let v3973 : BitVec 32 := Scalar.muli v3972 c8_i32_1666
  let v3974 : BitVec 32 := v3973
  let v3975 : Index := Scalar.indexCast v3974
  let c0_1667 : Index := 0#32
  ![v3975.toNat, 0]
def k0_off2013 (v3970 : BitVec 32) : Fin 2 → Nat :=
  let c3_i32_1664 : BitVec 32 := 3#32
  let v3971 : BitVec 32 := Scalar.shrsi v3970 c3_i32_1664
  let c8191_i32_1665 : BitVec 32 := 8191#32
  let v3972 : BitVec 32 := Scalar.andi v3971 c8191_i32_1665
  let v3980 : Index := Scalar.indexCast v3972
  let c0_1669 : Index := 0#32
  ![v3980.toNat, 0]

def k0_chk748 (i : grid0.Coords) (v48 : BitVec 32) (v3970 : BitVec 32) : Prop :=
  (∀ (k0_h10 : k0_cond10 i v48 = 1#1), 8 ∣ (k0_mult742 v3970).toNat) ∧
  (∀ (k0_h10 : k0_cond10 i v48 = 1#1), ∀ a, (k0_off2012 v3970) a + S8x128.size a ≤ S65536x128.size a) ∧
  (∀ (k0_h10 : k0_cond10 i v48 = 1#1), ∀ a, (k0_off2013 v3970) a + S1x128.size a ≤ S8192x128.size a)
theorem k0_mult742_dvd : ∀ (i : grid0.Coords) (v48 : BitVec 32) (v3970 : BitVec 32) (k0_hw748 : k0_chk748 i v48 v3970), ∀ (k0_h10 : k0_cond10 i v48 = 1#1), 8 ∣ (k0_mult742 v3970).toNat := fun i v48 v3970 k0_hw748 k0_h10 => k0_hw748.1 k0_h10
theorem k0_off2012_inb : ∀ (i : grid0.Coords) (v48 : BitVec 32) (v3970 : BitVec 32) (k0_hw748 : k0_chk748 i v48 v3970), ∀ (k0_h10 : k0_cond10 i v48 = 1#1), ∀ a, (k0_off2012 v3970) a + S8x128.size a ≤ S65536x128.size a := fun i v48 v3970 k0_hw748 k0_h10 => k0_hw748.2.1 k0_h10
theorem k0_off2013_inb : ∀ (i : grid0.Coords) (v48 : BitVec 32) (v3970 : BitVec 32) (k0_hw748 : k0_chk748 i v48 v3970), ∀ (k0_h10 : k0_cond10 i v48 = 1#1), ∀ a, (k0_off2013 v3970) a + S1x128.size a ≤ S8192x128.size a := fun i v48 v3970 k0_hw748 k0_h10 => k0_hw748.2.2 k0_h10

def k0_off2014 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c230_i32 : BitVec 32 := 230#32
  let v3985 : BitVec 32 := Scalar.addi v74 c230_i32
  let v3986 : Index := Scalar.indexCast v3985
  ![v3986.toNat]
def k0_mult743 (v3987 : BitVec 32) : BitVec 32 :=
  let c3_i32_1671 : BitVec 32 := 3#32
  let v3988 : BitVec 32 := Scalar.shrsi v3987 c3_i32_1671
  let c8191_i32_1672 : BitVec 32 := 8191#32
  let v3989 : BitVec 32 := Scalar.andi v3988 c8191_i32_1672
  let c8_i32_1673 : BitVec 32 := 8#32
  let v3990 : BitVec 32 := Scalar.muli v3989 c8_i32_1673
  v3990

def k0_off2015 (v3987 : BitVec 32) : Fin 2 → Nat :=
  let c3_i32_1671 : BitVec 32 := 3#32
  let v3988 : BitVec 32 := Scalar.shrsi v3987 c3_i32_1671
  let c8191_i32_1672 : BitVec 32 := 8191#32
  let v3989 : BitVec 32 := Scalar.andi v3988 c8191_i32_1672
  let c8_i32_1673 : BitVec 32 := 8#32
  let v3990 : BitVec 32 := Scalar.muli v3989 c8_i32_1673
  let v3991 : BitVec 32 := v3990
  let v3992 : Index := Scalar.indexCast v3991
  let c0_1674 : Index := 0#32
  ![v3992.toNat, 0]
def k0_off2016 (v3987 : BitVec 32) : Fin 2 → Nat :=
  let c3_i32_1671 : BitVec 32 := 3#32
  let v3988 : BitVec 32 := Scalar.shrsi v3987 c3_i32_1671
  let c8191_i32_1672 : BitVec 32 := 8191#32
  let v3989 : BitVec 32 := Scalar.andi v3988 c8191_i32_1672
  let v3997 : Index := Scalar.indexCast v3989
  let c0_1676 : Index := 0#32
  ![v3997.toNat, 0]

def k0_chk749 (i : grid0.Coords) (v48 : BitVec 32) (v3987 : BitVec 32) : Prop :=
  (∀ (k0_h10 : k0_cond10 i v48 = 1#1), 8 ∣ (k0_mult743 v3987).toNat) ∧
  (∀ (k0_h10 : k0_cond10 i v48 = 1#1), ∀ a, (k0_off2015 v3987) a + S8x128.size a ≤ S65536x128.size a) ∧
  (∀ (k0_h10 : k0_cond10 i v48 = 1#1), ∀ a, (k0_off2016 v3987) a + S1x128.size a ≤ S8192x128.size a)
theorem k0_mult743_dvd : ∀ (i : grid0.Coords) (v48 : BitVec 32) (v3987 : BitVec 32) (k0_hw749 : k0_chk749 i v48 v3987), ∀ (k0_h10 : k0_cond10 i v48 = 1#1), 8 ∣ (k0_mult743 v3987).toNat := fun i v48 v3987 k0_hw749 k0_h10 => k0_hw749.1 k0_h10
theorem k0_off2015_inb : ∀ (i : grid0.Coords) (v48 : BitVec 32) (v3987 : BitVec 32) (k0_hw749 : k0_chk749 i v48 v3987), ∀ (k0_h10 : k0_cond10 i v48 = 1#1), ∀ a, (k0_off2015 v3987) a + S8x128.size a ≤ S65536x128.size a := fun i v48 v3987 k0_hw749 k0_h10 => k0_hw749.2.1 k0_h10
theorem k0_off2016_inb : ∀ (i : grid0.Coords) (v48 : BitVec 32) (v3987 : BitVec 32) (k0_hw749 : k0_chk749 i v48 v3987), ∀ (k0_h10 : k0_cond10 i v48 = 1#1), ∀ a, (k0_off2016 v3987) a + S1x128.size a ≤ S8192x128.size a := fun i v48 v3987 k0_hw749 k0_h10 => k0_hw749.2.2 k0_h10

def k0_off2017 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c231_i32 : BitVec 32 := 231#32
  let v4002 : BitVec 32 := Scalar.addi v74 c231_i32
  let v4003 : Index := Scalar.indexCast v4002
  ![v4003.toNat]
def k0_mult744 (v4004 : BitVec 32) : BitVec 32 :=
  let c3_i32_1678 : BitVec 32 := 3#32
  let v4005 : BitVec 32 := Scalar.shrsi v4004 c3_i32_1678
  let c8191_i32_1679 : BitVec 32 := 8191#32
  let v4006 : BitVec 32 := Scalar.andi v4005 c8191_i32_1679
  let c8_i32_1680 : BitVec 32 := 8#32
  let v4007 : BitVec 32 := Scalar.muli v4006 c8_i32_1680
  v4007

def k0_off2018 (v4004 : BitVec 32) : Fin 2 → Nat :=
  let c3_i32_1678 : BitVec 32 := 3#32
  let v4005 : BitVec 32 := Scalar.shrsi v4004 c3_i32_1678
  let c8191_i32_1679 : BitVec 32 := 8191#32
  let v4006 : BitVec 32 := Scalar.andi v4005 c8191_i32_1679
  let c8_i32_1680 : BitVec 32 := 8#32
  let v4007 : BitVec 32 := Scalar.muli v4006 c8_i32_1680
  let v4008 : BitVec 32 := v4007
  let v4009 : Index := Scalar.indexCast v4008
  let c0_1681 : Index := 0#32
  ![v4009.toNat, 0]
def k0_off2019 (v4004 : BitVec 32) : Fin 2 → Nat :=
  let c3_i32_1678 : BitVec 32 := 3#32
  let v4005 : BitVec 32 := Scalar.shrsi v4004 c3_i32_1678
  let c8191_i32_1679 : BitVec 32 := 8191#32
  let v4006 : BitVec 32 := Scalar.andi v4005 c8191_i32_1679
  let v4014 : Index := Scalar.indexCast v4006
  let c0_1683 : Index := 0#32
  ![v4014.toNat, 0]

def k0_chk750 (i : grid0.Coords) (v48 : BitVec 32) (v4004 : BitVec 32) : Prop :=
  (∀ (k0_h10 : k0_cond10 i v48 = 1#1), 8 ∣ (k0_mult744 v4004).toNat) ∧
  (∀ (k0_h10 : k0_cond10 i v48 = 1#1), ∀ a, (k0_off2018 v4004) a + S8x128.size a ≤ S65536x128.size a) ∧
  (∀ (k0_h10 : k0_cond10 i v48 = 1#1), ∀ a, (k0_off2019 v4004) a + S1x128.size a ≤ S8192x128.size a)
theorem k0_mult744_dvd : ∀ (i : grid0.Coords) (v48 : BitVec 32) (v4004 : BitVec 32) (k0_hw750 : k0_chk750 i v48 v4004), ∀ (k0_h10 : k0_cond10 i v48 = 1#1), 8 ∣ (k0_mult744 v4004).toNat := fun i v48 v4004 k0_hw750 k0_h10 => k0_hw750.1 k0_h10
theorem k0_off2018_inb : ∀ (i : grid0.Coords) (v48 : BitVec 32) (v4004 : BitVec 32) (k0_hw750 : k0_chk750 i v48 v4004), ∀ (k0_h10 : k0_cond10 i v48 = 1#1), ∀ a, (k0_off2018 v4004) a + S8x128.size a ≤ S65536x128.size a := fun i v48 v4004 k0_hw750 k0_h10 => k0_hw750.2.1 k0_h10
theorem k0_off2019_inb : ∀ (i : grid0.Coords) (v48 : BitVec 32) (v4004 : BitVec 32) (k0_hw750 : k0_chk750 i v48 v4004), ∀ (k0_h10 : k0_cond10 i v48 = 1#1), ∀ a, (k0_off2019 v4004) a + S1x128.size a ≤ S8192x128.size a := fun i v48 v4004 k0_hw750 k0_h10 => k0_hw750.2.2 k0_h10

def k0_off2020 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c232_i32 : BitVec 32 := 232#32
  let v4019 : BitVec 32 := Scalar.addi v74 c232_i32
  let v4020 : Index := Scalar.indexCast v4019
  ![v4020.toNat]
def k0_mult745 (v4021 : BitVec 32) : BitVec 32 :=
  let c3_i32_1685 : BitVec 32 := 3#32
  let v4022 : BitVec 32 := Scalar.shrsi v4021 c3_i32_1685
  let c8191_i32_1686 : BitVec 32 := 8191#32
  let v4023 : BitVec 32 := Scalar.andi v4022 c8191_i32_1686
  let c8_i32_1687 : BitVec 32 := 8#32
  let v4024 : BitVec 32 := Scalar.muli v4023 c8_i32_1687
  v4024

def k0_off2021 (v4021 : BitVec 32) : Fin 2 → Nat :=
  let c3_i32_1685 : BitVec 32 := 3#32
  let v4022 : BitVec 32 := Scalar.shrsi v4021 c3_i32_1685
  let c8191_i32_1686 : BitVec 32 := 8191#32
  let v4023 : BitVec 32 := Scalar.andi v4022 c8191_i32_1686
  let c8_i32_1687 : BitVec 32 := 8#32
  let v4024 : BitVec 32 := Scalar.muli v4023 c8_i32_1687
  let v4025 : BitVec 32 := v4024
  let v4026 : Index := Scalar.indexCast v4025
  let c0_1688 : Index := 0#32
  ![v4026.toNat, 0]
def k0_off2022 (v4021 : BitVec 32) : Fin 2 → Nat :=
  let c3_i32_1685 : BitVec 32 := 3#32
  let v4022 : BitVec 32 := Scalar.shrsi v4021 c3_i32_1685
  let c8191_i32_1686 : BitVec 32 := 8191#32
  let v4023 : BitVec 32 := Scalar.andi v4022 c8191_i32_1686
  let v4031 : Index := Scalar.indexCast v4023
  let c0_1690 : Index := 0#32
  ![v4031.toNat, 0]

def k0_chk751 (i : grid0.Coords) (v48 : BitVec 32) (v4021 : BitVec 32) : Prop :=
  (∀ (k0_h10 : k0_cond10 i v48 = 1#1), 8 ∣ (k0_mult745 v4021).toNat) ∧
  (∀ (k0_h10 : k0_cond10 i v48 = 1#1), ∀ a, (k0_off2021 v4021) a + S8x128.size a ≤ S65536x128.size a) ∧
  (∀ (k0_h10 : k0_cond10 i v48 = 1#1), ∀ a, (k0_off2022 v4021) a + S1x128.size a ≤ S8192x128.size a)
theorem k0_mult745_dvd : ∀ (i : grid0.Coords) (v48 : BitVec 32) (v4021 : BitVec 32) (k0_hw751 : k0_chk751 i v48 v4021), ∀ (k0_h10 : k0_cond10 i v48 = 1#1), 8 ∣ (k0_mult745 v4021).toNat := fun i v48 v4021 k0_hw751 k0_h10 => k0_hw751.1 k0_h10
theorem k0_off2021_inb : ∀ (i : grid0.Coords) (v48 : BitVec 32) (v4021 : BitVec 32) (k0_hw751 : k0_chk751 i v48 v4021), ∀ (k0_h10 : k0_cond10 i v48 = 1#1), ∀ a, (k0_off2021 v4021) a + S8x128.size a ≤ S65536x128.size a := fun i v48 v4021 k0_hw751 k0_h10 => k0_hw751.2.1 k0_h10
theorem k0_off2022_inb : ∀ (i : grid0.Coords) (v48 : BitVec 32) (v4021 : BitVec 32) (k0_hw751 : k0_chk751 i v48 v4021), ∀ (k0_h10 : k0_cond10 i v48 = 1#1), ∀ a, (k0_off2022 v4021) a + S1x128.size a ≤ S8192x128.size a := fun i v48 v4021 k0_hw751 k0_h10 => k0_hw751.2.2 k0_h10

def k0_off2023 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c233_i32 : BitVec 32 := 233#32
  let v4036 : BitVec 32 := Scalar.addi v74 c233_i32
  let v4037 : Index := Scalar.indexCast v4036
  ![v4037.toNat]
def k0_mult746 (v4038 : BitVec 32) : BitVec 32 :=
  let c3_i32_1693 : BitVec 32 := 3#32
  let v4039 : BitVec 32 := Scalar.shrsi v4038 c3_i32_1693
  let c8191_i32_1694 : BitVec 32 := 8191#32
  let v4040 : BitVec 32 := Scalar.andi v4039 c8191_i32_1694
  let c8_i32_1695 : BitVec 32 := 8#32
  let v4041 : BitVec 32 := Scalar.muli v4040 c8_i32_1695
  v4041

def k0_off2024 (v4038 : BitVec 32) : Fin 2 → Nat :=
  let c3_i32_1693 : BitVec 32 := 3#32
  let v4039 : BitVec 32 := Scalar.shrsi v4038 c3_i32_1693
  let c8191_i32_1694 : BitVec 32 := 8191#32
  let v4040 : BitVec 32 := Scalar.andi v4039 c8191_i32_1694
  let c8_i32_1695 : BitVec 32 := 8#32
  let v4041 : BitVec 32 := Scalar.muli v4040 c8_i32_1695
  let v4042 : BitVec 32 := v4041
  let v4043 : Index := Scalar.indexCast v4042
  let c0_1696 : Index := 0#32
  ![v4043.toNat, 0]
def k0_off2025 (v4038 : BitVec 32) : Fin 2 → Nat :=
  let c3_i32_1693 : BitVec 32 := 3#32
  let v4039 : BitVec 32 := Scalar.shrsi v4038 c3_i32_1693
  let c8191_i32_1694 : BitVec 32 := 8191#32
  let v4040 : BitVec 32 := Scalar.andi v4039 c8191_i32_1694
  let v4048 : Index := Scalar.indexCast v4040
  let c0_1698 : Index := 0#32
  ![v4048.toNat, 0]

def k0_chk752 (i : grid0.Coords) (v48 : BitVec 32) (v4038 : BitVec 32) : Prop :=
  (∀ (k0_h10 : k0_cond10 i v48 = 1#1), 8 ∣ (k0_mult746 v4038).toNat) ∧
  (∀ (k0_h10 : k0_cond10 i v48 = 1#1), ∀ a, (k0_off2024 v4038) a + S8x128.size a ≤ S65536x128.size a) ∧
  (∀ (k0_h10 : k0_cond10 i v48 = 1#1), ∀ a, (k0_off2025 v4038) a + S1x128.size a ≤ S8192x128.size a)
theorem k0_mult746_dvd : ∀ (i : grid0.Coords) (v48 : BitVec 32) (v4038 : BitVec 32) (k0_hw752 : k0_chk752 i v48 v4038), ∀ (k0_h10 : k0_cond10 i v48 = 1#1), 8 ∣ (k0_mult746 v4038).toNat := fun i v48 v4038 k0_hw752 k0_h10 => k0_hw752.1 k0_h10
theorem k0_off2024_inb : ∀ (i : grid0.Coords) (v48 : BitVec 32) (v4038 : BitVec 32) (k0_hw752 : k0_chk752 i v48 v4038), ∀ (k0_h10 : k0_cond10 i v48 = 1#1), ∀ a, (k0_off2024 v4038) a + S8x128.size a ≤ S65536x128.size a := fun i v48 v4038 k0_hw752 k0_h10 => k0_hw752.2.1 k0_h10
theorem k0_off2025_inb : ∀ (i : grid0.Coords) (v48 : BitVec 32) (v4038 : BitVec 32) (k0_hw752 : k0_chk752 i v48 v4038), ∀ (k0_h10 : k0_cond10 i v48 = 1#1), ∀ a, (k0_off2025 v4038) a + S1x128.size a ≤ S8192x128.size a := fun i v48 v4038 k0_hw752 k0_h10 => k0_hw752.2.2 k0_h10

def k0_off2026 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c234_i32 : BitVec 32 := 234#32
  let v4053 : BitVec 32 := Scalar.addi v74 c234_i32
  let v4054 : Index := Scalar.indexCast v4053
  ![v4054.toNat]
def k0_mult747 (v4055 : BitVec 32) : BitVec 32 :=
  let c3_i32_1700 : BitVec 32 := 3#32
  let v4056 : BitVec 32 := Scalar.shrsi v4055 c3_i32_1700
  let c8191_i32_1701 : BitVec 32 := 8191#32
  let v4057 : BitVec 32 := Scalar.andi v4056 c8191_i32_1701
  let c8_i32_1702 : BitVec 32 := 8#32
  let v4058 : BitVec 32 := Scalar.muli v4057 c8_i32_1702
  v4058

def k0_off2027 (v4055 : BitVec 32) : Fin 2 → Nat :=
  let c3_i32_1700 : BitVec 32 := 3#32
  let v4056 : BitVec 32 := Scalar.shrsi v4055 c3_i32_1700
  let c8191_i32_1701 : BitVec 32 := 8191#32
  let v4057 : BitVec 32 := Scalar.andi v4056 c8191_i32_1701
  let c8_i32_1702 : BitVec 32 := 8#32
  let v4058 : BitVec 32 := Scalar.muli v4057 c8_i32_1702
  let v4059 : BitVec 32 := v4058
  let v4060 : Index := Scalar.indexCast v4059
  let c0_1703 : Index := 0#32
  ![v4060.toNat, 0]
def k0_off2028 (v4055 : BitVec 32) : Fin 2 → Nat :=
  let c3_i32_1700 : BitVec 32 := 3#32
  let v4056 : BitVec 32 := Scalar.shrsi v4055 c3_i32_1700
  let c8191_i32_1701 : BitVec 32 := 8191#32
  let v4057 : BitVec 32 := Scalar.andi v4056 c8191_i32_1701
  let v4065 : Index := Scalar.indexCast v4057
  let c0_1705 : Index := 0#32
  ![v4065.toNat, 0]

def k0_chk753 (i : grid0.Coords) (v48 : BitVec 32) (v4055 : BitVec 32) : Prop :=
  (∀ (k0_h10 : k0_cond10 i v48 = 1#1), 8 ∣ (k0_mult747 v4055).toNat) ∧
  (∀ (k0_h10 : k0_cond10 i v48 = 1#1), ∀ a, (k0_off2027 v4055) a + S8x128.size a ≤ S65536x128.size a) ∧
  (∀ (k0_h10 : k0_cond10 i v48 = 1#1), ∀ a, (k0_off2028 v4055) a + S1x128.size a ≤ S8192x128.size a)
theorem k0_mult747_dvd : ∀ (i : grid0.Coords) (v48 : BitVec 32) (v4055 : BitVec 32) (k0_hw753 : k0_chk753 i v48 v4055), ∀ (k0_h10 : k0_cond10 i v48 = 1#1), 8 ∣ (k0_mult747 v4055).toNat := fun i v48 v4055 k0_hw753 k0_h10 => k0_hw753.1 k0_h10
theorem k0_off2027_inb : ∀ (i : grid0.Coords) (v48 : BitVec 32) (v4055 : BitVec 32) (k0_hw753 : k0_chk753 i v48 v4055), ∀ (k0_h10 : k0_cond10 i v48 = 1#1), ∀ a, (k0_off2027 v4055) a + S8x128.size a ≤ S65536x128.size a := fun i v48 v4055 k0_hw753 k0_h10 => k0_hw753.2.1 k0_h10
theorem k0_off2028_inb : ∀ (i : grid0.Coords) (v48 : BitVec 32) (v4055 : BitVec 32) (k0_hw753 : k0_chk753 i v48 v4055), ∀ (k0_h10 : k0_cond10 i v48 = 1#1), ∀ a, (k0_off2028 v4055) a + S1x128.size a ≤ S8192x128.size a := fun i v48 v4055 k0_hw753 k0_h10 => k0_hw753.2.2 k0_h10

def k0_off2029 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c235_i32 : BitVec 32 := 235#32
  let v4070 : BitVec 32 := Scalar.addi v74 c235_i32
  let v4071 : Index := Scalar.indexCast v4070
  ![v4071.toNat]
def k0_mult748 (v4072 : BitVec 32) : BitVec 32 :=
  let c3_i32_1707 : BitVec 32 := 3#32
  let v4073 : BitVec 32 := Scalar.shrsi v4072 c3_i32_1707
  let c8191_i32_1708 : BitVec 32 := 8191#32
  let v4074 : BitVec 32 := Scalar.andi v4073 c8191_i32_1708
  let c8_i32_1709 : BitVec 32 := 8#32
  let v4075 : BitVec 32 := Scalar.muli v4074 c8_i32_1709
  v4075

def k0_off2030 (v4072 : BitVec 32) : Fin 2 → Nat :=
  let c3_i32_1707 : BitVec 32 := 3#32
  let v4073 : BitVec 32 := Scalar.shrsi v4072 c3_i32_1707
  let c8191_i32_1708 : BitVec 32 := 8191#32
  let v4074 : BitVec 32 := Scalar.andi v4073 c8191_i32_1708
  let c8_i32_1709 : BitVec 32 := 8#32
  let v4075 : BitVec 32 := Scalar.muli v4074 c8_i32_1709
  let v4076 : BitVec 32 := v4075
  let v4077 : Index := Scalar.indexCast v4076
  let c0_1710 : Index := 0#32
  ![v4077.toNat, 0]
def k0_off2031 (v4072 : BitVec 32) : Fin 2 → Nat :=
  let c3_i32_1707 : BitVec 32 := 3#32
  let v4073 : BitVec 32 := Scalar.shrsi v4072 c3_i32_1707
  let c8191_i32_1708 : BitVec 32 := 8191#32
  let v4074 : BitVec 32 := Scalar.andi v4073 c8191_i32_1708
  let v4082 : Index := Scalar.indexCast v4074
  let c0_1712 : Index := 0#32
  ![v4082.toNat, 0]

def k0_chk754 (i : grid0.Coords) (v48 : BitVec 32) (v4072 : BitVec 32) : Prop :=
  (∀ (k0_h10 : k0_cond10 i v48 = 1#1), 8 ∣ (k0_mult748 v4072).toNat) ∧
  (∀ (k0_h10 : k0_cond10 i v48 = 1#1), ∀ a, (k0_off2030 v4072) a + S8x128.size a ≤ S65536x128.size a) ∧
  (∀ (k0_h10 : k0_cond10 i v48 = 1#1), ∀ a, (k0_off2031 v4072) a + S1x128.size a ≤ S8192x128.size a)
theorem k0_mult748_dvd : ∀ (i : grid0.Coords) (v48 : BitVec 32) (v4072 : BitVec 32) (k0_hw754 : k0_chk754 i v48 v4072), ∀ (k0_h10 : k0_cond10 i v48 = 1#1), 8 ∣ (k0_mult748 v4072).toNat := fun i v48 v4072 k0_hw754 k0_h10 => k0_hw754.1 k0_h10
theorem k0_off2030_inb : ∀ (i : grid0.Coords) (v48 : BitVec 32) (v4072 : BitVec 32) (k0_hw754 : k0_chk754 i v48 v4072), ∀ (k0_h10 : k0_cond10 i v48 = 1#1), ∀ a, (k0_off2030 v4072) a + S8x128.size a ≤ S65536x128.size a := fun i v48 v4072 k0_hw754 k0_h10 => k0_hw754.2.1 k0_h10
theorem k0_off2031_inb : ∀ (i : grid0.Coords) (v48 : BitVec 32) (v4072 : BitVec 32) (k0_hw754 : k0_chk754 i v48 v4072), ∀ (k0_h10 : k0_cond10 i v48 = 1#1), ∀ a, (k0_off2031 v4072) a + S1x128.size a ≤ S8192x128.size a := fun i v48 v4072 k0_hw754 k0_h10 => k0_hw754.2.2 k0_h10

def k0_off2032 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c236_i32 : BitVec 32 := 236#32
  let v4087 : BitVec 32 := Scalar.addi v74 c236_i32
  let v4088 : Index := Scalar.indexCast v4087
  ![v4088.toNat]
def k0_mult749 (v4089 : BitVec 32) : BitVec 32 :=
  let c3_i32_1714 : BitVec 32 := 3#32
  let v4090 : BitVec 32 := Scalar.shrsi v4089 c3_i32_1714
  let c8191_i32_1715 : BitVec 32 := 8191#32
  let v4091 : BitVec 32 := Scalar.andi v4090 c8191_i32_1715
  let c8_i32_1716 : BitVec 32 := 8#32
  let v4092 : BitVec 32 := Scalar.muli v4091 c8_i32_1716
  v4092

def k0_off2033 (v4089 : BitVec 32) : Fin 2 → Nat :=
  let c3_i32_1714 : BitVec 32 := 3#32
  let v4090 : BitVec 32 := Scalar.shrsi v4089 c3_i32_1714
  let c8191_i32_1715 : BitVec 32 := 8191#32
  let v4091 : BitVec 32 := Scalar.andi v4090 c8191_i32_1715
  let c8_i32_1716 : BitVec 32 := 8#32
  let v4092 : BitVec 32 := Scalar.muli v4091 c8_i32_1716
  let v4093 : BitVec 32 := v4092
  let v4094 : Index := Scalar.indexCast v4093
  let c0_1717 : Index := 0#32
  ![v4094.toNat, 0]
def k0_off2034 (v4089 : BitVec 32) : Fin 2 → Nat :=
  let c3_i32_1714 : BitVec 32 := 3#32
  let v4090 : BitVec 32 := Scalar.shrsi v4089 c3_i32_1714
  let c8191_i32_1715 : BitVec 32 := 8191#32
  let v4091 : BitVec 32 := Scalar.andi v4090 c8191_i32_1715
  let v4099 : Index := Scalar.indexCast v4091
  let c0_1719 : Index := 0#32
  ![v4099.toNat, 0]

def k0_chk755 (i : grid0.Coords) (v48 : BitVec 32) (v4089 : BitVec 32) : Prop :=
  (∀ (k0_h10 : k0_cond10 i v48 = 1#1), 8 ∣ (k0_mult749 v4089).toNat) ∧
  (∀ (k0_h10 : k0_cond10 i v48 = 1#1), ∀ a, (k0_off2033 v4089) a + S8x128.size a ≤ S65536x128.size a) ∧
  (∀ (k0_h10 : k0_cond10 i v48 = 1#1), ∀ a, (k0_off2034 v4089) a + S1x128.size a ≤ S8192x128.size a)
theorem k0_mult749_dvd : ∀ (i : grid0.Coords) (v48 : BitVec 32) (v4089 : BitVec 32) (k0_hw755 : k0_chk755 i v48 v4089), ∀ (k0_h10 : k0_cond10 i v48 = 1#1), 8 ∣ (k0_mult749 v4089).toNat := fun i v48 v4089 k0_hw755 k0_h10 => k0_hw755.1 k0_h10
theorem k0_off2033_inb : ∀ (i : grid0.Coords) (v48 : BitVec 32) (v4089 : BitVec 32) (k0_hw755 : k0_chk755 i v48 v4089), ∀ (k0_h10 : k0_cond10 i v48 = 1#1), ∀ a, (k0_off2033 v4089) a + S8x128.size a ≤ S65536x128.size a := fun i v48 v4089 k0_hw755 k0_h10 => k0_hw755.2.1 k0_h10
theorem k0_off2034_inb : ∀ (i : grid0.Coords) (v48 : BitVec 32) (v4089 : BitVec 32) (k0_hw755 : k0_chk755 i v48 v4089), ∀ (k0_h10 : k0_cond10 i v48 = 1#1), ∀ a, (k0_off2034 v4089) a + S1x128.size a ≤ S8192x128.size a := fun i v48 v4089 k0_hw755 k0_h10 => k0_hw755.2.2 k0_h10

def k0_off2035 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c237_i32 : BitVec 32 := 237#32
  let v4104 : BitVec 32 := Scalar.addi v74 c237_i32
  let v4105 : Index := Scalar.indexCast v4104
  ![v4105.toNat]
def k0_mult750 (v4106 : BitVec 32) : BitVec 32 :=
  let c3_i32_1721 : BitVec 32 := 3#32
  let v4107 : BitVec 32 := Scalar.shrsi v4106 c3_i32_1721
  let c8191_i32_1722 : BitVec 32 := 8191#32
  let v4108 : BitVec 32 := Scalar.andi v4107 c8191_i32_1722
  let c8_i32_1723 : BitVec 32 := 8#32
  let v4109 : BitVec 32 := Scalar.muli v4108 c8_i32_1723
  v4109

def k0_off2036 (v4106 : BitVec 32) : Fin 2 → Nat :=
  let c3_i32_1721 : BitVec 32 := 3#32
  let v4107 : BitVec 32 := Scalar.shrsi v4106 c3_i32_1721
  let c8191_i32_1722 : BitVec 32 := 8191#32
  let v4108 : BitVec 32 := Scalar.andi v4107 c8191_i32_1722
  let c8_i32_1723 : BitVec 32 := 8#32
  let v4109 : BitVec 32 := Scalar.muli v4108 c8_i32_1723
  let v4110 : BitVec 32 := v4109
  let v4111 : Index := Scalar.indexCast v4110
  let c0_1724 : Index := 0#32
  ![v4111.toNat, 0]
def k0_off2037 (v4106 : BitVec 32) : Fin 2 → Nat :=
  let c3_i32_1721 : BitVec 32 := 3#32
  let v4107 : BitVec 32 := Scalar.shrsi v4106 c3_i32_1721
  let c8191_i32_1722 : BitVec 32 := 8191#32
  let v4108 : BitVec 32 := Scalar.andi v4107 c8191_i32_1722
  let v4116 : Index := Scalar.indexCast v4108
  let c0_1726 : Index := 0#32
  ![v4116.toNat, 0]

def k0_chk756 (i : grid0.Coords) (v48 : BitVec 32) (v4106 : BitVec 32) : Prop :=
  (∀ (k0_h10 : k0_cond10 i v48 = 1#1), 8 ∣ (k0_mult750 v4106).toNat) ∧
  (∀ (k0_h10 : k0_cond10 i v48 = 1#1), ∀ a, (k0_off2036 v4106) a + S8x128.size a ≤ S65536x128.size a) ∧
  (∀ (k0_h10 : k0_cond10 i v48 = 1#1), ∀ a, (k0_off2037 v4106) a + S1x128.size a ≤ S8192x128.size a)
theorem k0_mult750_dvd : ∀ (i : grid0.Coords) (v48 : BitVec 32) (v4106 : BitVec 32) (k0_hw756 : k0_chk756 i v48 v4106), ∀ (k0_h10 : k0_cond10 i v48 = 1#1), 8 ∣ (k0_mult750 v4106).toNat := fun i v48 v4106 k0_hw756 k0_h10 => k0_hw756.1 k0_h10
theorem k0_off2036_inb : ∀ (i : grid0.Coords) (v48 : BitVec 32) (v4106 : BitVec 32) (k0_hw756 : k0_chk756 i v48 v4106), ∀ (k0_h10 : k0_cond10 i v48 = 1#1), ∀ a, (k0_off2036 v4106) a + S8x128.size a ≤ S65536x128.size a := fun i v48 v4106 k0_hw756 k0_h10 => k0_hw756.2.1 k0_h10
theorem k0_off2037_inb : ∀ (i : grid0.Coords) (v48 : BitVec 32) (v4106 : BitVec 32) (k0_hw756 : k0_chk756 i v48 v4106), ∀ (k0_h10 : k0_cond10 i v48 = 1#1), ∀ a, (k0_off2037 v4106) a + S1x128.size a ≤ S8192x128.size a := fun i v48 v4106 k0_hw756 k0_h10 => k0_hw756.2.2 k0_h10

def k0_off2038 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c238_i32 : BitVec 32 := 238#32
  let v4121 : BitVec 32 := Scalar.addi v74 c238_i32
  let v4122 : Index := Scalar.indexCast v4121
  ![v4122.toNat]
def k0_mult751 (v4123 : BitVec 32) : BitVec 32 :=
  let c3_i32_1728 : BitVec 32 := 3#32
  let v4124 : BitVec 32 := Scalar.shrsi v4123 c3_i32_1728
  let c8191_i32_1729 : BitVec 32 := 8191#32
  let v4125 : BitVec 32 := Scalar.andi v4124 c8191_i32_1729
  let c8_i32_1730 : BitVec 32 := 8#32
  let v4126 : BitVec 32 := Scalar.muli v4125 c8_i32_1730
  v4126

def k0_off2039 (v4123 : BitVec 32) : Fin 2 → Nat :=
  let c3_i32_1728 : BitVec 32 := 3#32
  let v4124 : BitVec 32 := Scalar.shrsi v4123 c3_i32_1728
  let c8191_i32_1729 : BitVec 32 := 8191#32
  let v4125 : BitVec 32 := Scalar.andi v4124 c8191_i32_1729
  let c8_i32_1730 : BitVec 32 := 8#32
  let v4126 : BitVec 32 := Scalar.muli v4125 c8_i32_1730
  let v4127 : BitVec 32 := v4126
  let v4128 : Index := Scalar.indexCast v4127
  let c0_1731 : Index := 0#32
  ![v4128.toNat, 0]
def k0_off2040 (v4123 : BitVec 32) : Fin 2 → Nat :=
  let c3_i32_1728 : BitVec 32 := 3#32
  let v4124 : BitVec 32 := Scalar.shrsi v4123 c3_i32_1728
  let c8191_i32_1729 : BitVec 32 := 8191#32
  let v4125 : BitVec 32 := Scalar.andi v4124 c8191_i32_1729
  let v4133 : Index := Scalar.indexCast v4125
  let c0_1733 : Index := 0#32
  ![v4133.toNat, 0]

def k0_chk757 (i : grid0.Coords) (v48 : BitVec 32) (v4123 : BitVec 32) : Prop :=
  (∀ (k0_h10 : k0_cond10 i v48 = 1#1), 8 ∣ (k0_mult751 v4123).toNat) ∧
  (∀ (k0_h10 : k0_cond10 i v48 = 1#1), ∀ a, (k0_off2039 v4123) a + S8x128.size a ≤ S65536x128.size a) ∧
  (∀ (k0_h10 : k0_cond10 i v48 = 1#1), ∀ a, (k0_off2040 v4123) a + S1x128.size a ≤ S8192x128.size a)
theorem k0_mult751_dvd : ∀ (i : grid0.Coords) (v48 : BitVec 32) (v4123 : BitVec 32) (k0_hw757 : k0_chk757 i v48 v4123), ∀ (k0_h10 : k0_cond10 i v48 = 1#1), 8 ∣ (k0_mult751 v4123).toNat := fun i v48 v4123 k0_hw757 k0_h10 => k0_hw757.1 k0_h10
theorem k0_off2039_inb : ∀ (i : grid0.Coords) (v48 : BitVec 32) (v4123 : BitVec 32) (k0_hw757 : k0_chk757 i v48 v4123), ∀ (k0_h10 : k0_cond10 i v48 = 1#1), ∀ a, (k0_off2039 v4123) a + S8x128.size a ≤ S65536x128.size a := fun i v48 v4123 k0_hw757 k0_h10 => k0_hw757.2.1 k0_h10
theorem k0_off2040_inb : ∀ (i : grid0.Coords) (v48 : BitVec 32) (v4123 : BitVec 32) (k0_hw757 : k0_chk757 i v48 v4123), ∀ (k0_h10 : k0_cond10 i v48 = 1#1), ∀ a, (k0_off2040 v4123) a + S1x128.size a ≤ S8192x128.size a := fun i v48 v4123 k0_hw757 k0_h10 => k0_hw757.2.2 k0_h10

def k0_off2041 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c239_i32 : BitVec 32 := 239#32
  let v4138 : BitVec 32 := Scalar.addi v74 c239_i32
  let v4139 : Index := Scalar.indexCast v4138
  ![v4139.toNat]
def k0_mult752 (v4140 : BitVec 32) : BitVec 32 :=
  let c3_i32_1735 : BitVec 32 := 3#32
  let v4141 : BitVec 32 := Scalar.shrsi v4140 c3_i32_1735
  let c8191_i32_1736 : BitVec 32 := 8191#32
  let v4142 : BitVec 32 := Scalar.andi v4141 c8191_i32_1736
  let c8_i32_1737 : BitVec 32 := 8#32
  let v4143 : BitVec 32 := Scalar.muli v4142 c8_i32_1737
  v4143

def k0_off2042 (v4140 : BitVec 32) : Fin 2 → Nat :=
  let c3_i32_1735 : BitVec 32 := 3#32
  let v4141 : BitVec 32 := Scalar.shrsi v4140 c3_i32_1735
  let c8191_i32_1736 : BitVec 32 := 8191#32
  let v4142 : BitVec 32 := Scalar.andi v4141 c8191_i32_1736
  let c8_i32_1737 : BitVec 32 := 8#32
  let v4143 : BitVec 32 := Scalar.muli v4142 c8_i32_1737
  let v4144 : BitVec 32 := v4143
  let v4145 : Index := Scalar.indexCast v4144
  let c0_1738 : Index := 0#32
  ![v4145.toNat, 0]
def k0_off2043 (v4140 : BitVec 32) : Fin 2 → Nat :=
  let c3_i32_1735 : BitVec 32 := 3#32
  let v4141 : BitVec 32 := Scalar.shrsi v4140 c3_i32_1735
  let c8191_i32_1736 : BitVec 32 := 8191#32
  let v4142 : BitVec 32 := Scalar.andi v4141 c8191_i32_1736
  let v4150 : Index := Scalar.indexCast v4142
  let c0_1740 : Index := 0#32
  ![v4150.toNat, 0]

def k0_chk758 (i : grid0.Coords) (v48 : BitVec 32) (v4140 : BitVec 32) : Prop :=
  (∀ (k0_h10 : k0_cond10 i v48 = 1#1), 8 ∣ (k0_mult752 v4140).toNat) ∧
  (∀ (k0_h10 : k0_cond10 i v48 = 1#1), ∀ a, (k0_off2042 v4140) a + S8x128.size a ≤ S65536x128.size a) ∧
  (∀ (k0_h10 : k0_cond10 i v48 = 1#1), ∀ a, (k0_off2043 v4140) a + S1x128.size a ≤ S8192x128.size a)
theorem k0_mult752_dvd : ∀ (i : grid0.Coords) (v48 : BitVec 32) (v4140 : BitVec 32) (k0_hw758 : k0_chk758 i v48 v4140), ∀ (k0_h10 : k0_cond10 i v48 = 1#1), 8 ∣ (k0_mult752 v4140).toNat := fun i v48 v4140 k0_hw758 k0_h10 => k0_hw758.1 k0_h10
theorem k0_off2042_inb : ∀ (i : grid0.Coords) (v48 : BitVec 32) (v4140 : BitVec 32) (k0_hw758 : k0_chk758 i v48 v4140), ∀ (k0_h10 : k0_cond10 i v48 = 1#1), ∀ a, (k0_off2042 v4140) a + S8x128.size a ≤ S65536x128.size a := fun i v48 v4140 k0_hw758 k0_h10 => k0_hw758.2.1 k0_h10
theorem k0_off2043_inb : ∀ (i : grid0.Coords) (v48 : BitVec 32) (v4140 : BitVec 32) (k0_hw758 : k0_chk758 i v48 v4140), ∀ (k0_h10 : k0_cond10 i v48 = 1#1), ∀ a, (k0_off2043 v4140) a + S1x128.size a ≤ S8192x128.size a := fun i v48 v4140 k0_hw758 k0_h10 => k0_hw758.2.2 k0_h10

def k0_off2044 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c240_i32 : BitVec 32 := 240#32
  let v4155 : BitVec 32 := Scalar.addi v74 c240_i32
  let v4156 : Index := Scalar.indexCast v4155
  ![v4156.toNat]
def k0_mult753 (v4157 : BitVec 32) : BitVec 32 :=
  let c3_i32_1742 : BitVec 32 := 3#32
  let v4158 : BitVec 32 := Scalar.shrsi v4157 c3_i32_1742
  let c8191_i32_1743 : BitVec 32 := 8191#32
  let v4159 : BitVec 32 := Scalar.andi v4158 c8191_i32_1743
  let c8_i32_1744 : BitVec 32 := 8#32
  let v4160 : BitVec 32 := Scalar.muli v4159 c8_i32_1744
  v4160

def k0_off2045 (v4157 : BitVec 32) : Fin 2 → Nat :=
  let c3_i32_1742 : BitVec 32 := 3#32
  let v4158 : BitVec 32 := Scalar.shrsi v4157 c3_i32_1742
  let c8191_i32_1743 : BitVec 32 := 8191#32
  let v4159 : BitVec 32 := Scalar.andi v4158 c8191_i32_1743
  let c8_i32_1744 : BitVec 32 := 8#32
  let v4160 : BitVec 32 := Scalar.muli v4159 c8_i32_1744
  let v4161 : BitVec 32 := v4160
  let v4162 : Index := Scalar.indexCast v4161
  let c0_1745 : Index := 0#32
  ![v4162.toNat, 0]
def k0_off2046 (v4157 : BitVec 32) : Fin 2 → Nat :=
  let c3_i32_1742 : BitVec 32 := 3#32
  let v4158 : BitVec 32 := Scalar.shrsi v4157 c3_i32_1742
  let c8191_i32_1743 : BitVec 32 := 8191#32
  let v4159 : BitVec 32 := Scalar.andi v4158 c8191_i32_1743
  let v4167 : Index := Scalar.indexCast v4159
  let c0_1747 : Index := 0#32
  ![v4167.toNat, 0]

def k0_chk759 (i : grid0.Coords) (v48 : BitVec 32) (v4157 : BitVec 32) : Prop :=
  (∀ (k0_h10 : k0_cond10 i v48 = 1#1), 8 ∣ (k0_mult753 v4157).toNat) ∧
  (∀ (k0_h10 : k0_cond10 i v48 = 1#1), ∀ a, (k0_off2045 v4157) a + S8x128.size a ≤ S65536x128.size a) ∧
  (∀ (k0_h10 : k0_cond10 i v48 = 1#1), ∀ a, (k0_off2046 v4157) a + S1x128.size a ≤ S8192x128.size a)
theorem k0_mult753_dvd : ∀ (i : grid0.Coords) (v48 : BitVec 32) (v4157 : BitVec 32) (k0_hw759 : k0_chk759 i v48 v4157), ∀ (k0_h10 : k0_cond10 i v48 = 1#1), 8 ∣ (k0_mult753 v4157).toNat := fun i v48 v4157 k0_hw759 k0_h10 => k0_hw759.1 k0_h10
theorem k0_off2045_inb : ∀ (i : grid0.Coords) (v48 : BitVec 32) (v4157 : BitVec 32) (k0_hw759 : k0_chk759 i v48 v4157), ∀ (k0_h10 : k0_cond10 i v48 = 1#1), ∀ a, (k0_off2045 v4157) a + S8x128.size a ≤ S65536x128.size a := fun i v48 v4157 k0_hw759 k0_h10 => k0_hw759.2.1 k0_h10
theorem k0_off2046_inb : ∀ (i : grid0.Coords) (v48 : BitVec 32) (v4157 : BitVec 32) (k0_hw759 : k0_chk759 i v48 v4157), ∀ (k0_h10 : k0_cond10 i v48 = 1#1), ∀ a, (k0_off2046 v4157) a + S1x128.size a ≤ S8192x128.size a := fun i v48 v4157 k0_hw759 k0_h10 => k0_hw759.2.2 k0_h10

def k0_off2047 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c241_i32 : BitVec 32 := 241#32
  let v4172 : BitVec 32 := Scalar.addi v74 c241_i32
  let v4173 : Index := Scalar.indexCast v4172
  ![v4173.toNat]
def k0_mult754 (v4174 : BitVec 32) : BitVec 32 :=
  let c3_i32_1750 : BitVec 32 := 3#32
  let v4175 : BitVec 32 := Scalar.shrsi v4174 c3_i32_1750
  let c8191_i32_1751 : BitVec 32 := 8191#32
  let v4176 : BitVec 32 := Scalar.andi v4175 c8191_i32_1751
  let c8_i32_1752 : BitVec 32 := 8#32
  let v4177 : BitVec 32 := Scalar.muli v4176 c8_i32_1752
  v4177

def k0_off2048 (v4174 : BitVec 32) : Fin 2 → Nat :=
  let c3_i32_1750 : BitVec 32 := 3#32
  let v4175 : BitVec 32 := Scalar.shrsi v4174 c3_i32_1750
  let c8191_i32_1751 : BitVec 32 := 8191#32
  let v4176 : BitVec 32 := Scalar.andi v4175 c8191_i32_1751
  let c8_i32_1752 : BitVec 32 := 8#32
  let v4177 : BitVec 32 := Scalar.muli v4176 c8_i32_1752
  let v4178 : BitVec 32 := v4177
  let v4179 : Index := Scalar.indexCast v4178
  let c0_1753 : Index := 0#32
  ![v4179.toNat, 0]
def k0_off2049 (v4174 : BitVec 32) : Fin 2 → Nat :=
  let c3_i32_1750 : BitVec 32 := 3#32
  let v4175 : BitVec 32 := Scalar.shrsi v4174 c3_i32_1750
  let c8191_i32_1751 : BitVec 32 := 8191#32
  let v4176 : BitVec 32 := Scalar.andi v4175 c8191_i32_1751
  let v4184 : Index := Scalar.indexCast v4176
  let c0_1755 : Index := 0#32
  ![v4184.toNat, 0]

def k0_chk760 (i : grid0.Coords) (v48 : BitVec 32) (v4174 : BitVec 32) : Prop :=
  (∀ (k0_h10 : k0_cond10 i v48 = 1#1), 8 ∣ (k0_mult754 v4174).toNat) ∧
  (∀ (k0_h10 : k0_cond10 i v48 = 1#1), ∀ a, (k0_off2048 v4174) a + S8x128.size a ≤ S65536x128.size a) ∧
  (∀ (k0_h10 : k0_cond10 i v48 = 1#1), ∀ a, (k0_off2049 v4174) a + S1x128.size a ≤ S8192x128.size a)
theorem k0_mult754_dvd : ∀ (i : grid0.Coords) (v48 : BitVec 32) (v4174 : BitVec 32) (k0_hw760 : k0_chk760 i v48 v4174), ∀ (k0_h10 : k0_cond10 i v48 = 1#1), 8 ∣ (k0_mult754 v4174).toNat := fun i v48 v4174 k0_hw760 k0_h10 => k0_hw760.1 k0_h10
theorem k0_off2048_inb : ∀ (i : grid0.Coords) (v48 : BitVec 32) (v4174 : BitVec 32) (k0_hw760 : k0_chk760 i v48 v4174), ∀ (k0_h10 : k0_cond10 i v48 = 1#1), ∀ a, (k0_off2048 v4174) a + S8x128.size a ≤ S65536x128.size a := fun i v48 v4174 k0_hw760 k0_h10 => k0_hw760.2.1 k0_h10
theorem k0_off2049_inb : ∀ (i : grid0.Coords) (v48 : BitVec 32) (v4174 : BitVec 32) (k0_hw760 : k0_chk760 i v48 v4174), ∀ (k0_h10 : k0_cond10 i v48 = 1#1), ∀ a, (k0_off2049 v4174) a + S1x128.size a ≤ S8192x128.size a := fun i v48 v4174 k0_hw760 k0_h10 => k0_hw760.2.2 k0_h10

def k0_off2050 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c242_i32 : BitVec 32 := 242#32
  let v4189 : BitVec 32 := Scalar.addi v74 c242_i32
  let v4190 : Index := Scalar.indexCast v4189
  ![v4190.toNat]
def k0_mult755 (v4191 : BitVec 32) : BitVec 32 :=
  let c3_i32_1757 : BitVec 32 := 3#32
  let v4192 : BitVec 32 := Scalar.shrsi v4191 c3_i32_1757
  let c8191_i32_1758 : BitVec 32 := 8191#32
  let v4193 : BitVec 32 := Scalar.andi v4192 c8191_i32_1758
  let c8_i32_1759 : BitVec 32 := 8#32
  let v4194 : BitVec 32 := Scalar.muli v4193 c8_i32_1759
  v4194

def k0_off2051 (v4191 : BitVec 32) : Fin 2 → Nat :=
  let c3_i32_1757 : BitVec 32 := 3#32
  let v4192 : BitVec 32 := Scalar.shrsi v4191 c3_i32_1757
  let c8191_i32_1758 : BitVec 32 := 8191#32
  let v4193 : BitVec 32 := Scalar.andi v4192 c8191_i32_1758
  let c8_i32_1759 : BitVec 32 := 8#32
  let v4194 : BitVec 32 := Scalar.muli v4193 c8_i32_1759
  let v4195 : BitVec 32 := v4194
  let v4196 : Index := Scalar.indexCast v4195
  let c0_1760 : Index := 0#32
  ![v4196.toNat, 0]
def k0_off2052 (v4191 : BitVec 32) : Fin 2 → Nat :=
  let c3_i32_1757 : BitVec 32 := 3#32
  let v4192 : BitVec 32 := Scalar.shrsi v4191 c3_i32_1757
  let c8191_i32_1758 : BitVec 32 := 8191#32
  let v4193 : BitVec 32 := Scalar.andi v4192 c8191_i32_1758
  let v4201 : Index := Scalar.indexCast v4193
  let c0_1762 : Index := 0#32
  ![v4201.toNat, 0]

def k0_chk761 (i : grid0.Coords) (v48 : BitVec 32) (v4191 : BitVec 32) : Prop :=
  (∀ (k0_h10 : k0_cond10 i v48 = 1#1), 8 ∣ (k0_mult755 v4191).toNat) ∧
  (∀ (k0_h10 : k0_cond10 i v48 = 1#1), ∀ a, (k0_off2051 v4191) a + S8x128.size a ≤ S65536x128.size a) ∧
  (∀ (k0_h10 : k0_cond10 i v48 = 1#1), ∀ a, (k0_off2052 v4191) a + S1x128.size a ≤ S8192x128.size a)
theorem k0_mult755_dvd : ∀ (i : grid0.Coords) (v48 : BitVec 32) (v4191 : BitVec 32) (k0_hw761 : k0_chk761 i v48 v4191), ∀ (k0_h10 : k0_cond10 i v48 = 1#1), 8 ∣ (k0_mult755 v4191).toNat := fun i v48 v4191 k0_hw761 k0_h10 => k0_hw761.1 k0_h10
theorem k0_off2051_inb : ∀ (i : grid0.Coords) (v48 : BitVec 32) (v4191 : BitVec 32) (k0_hw761 : k0_chk761 i v48 v4191), ∀ (k0_h10 : k0_cond10 i v48 = 1#1), ∀ a, (k0_off2051 v4191) a + S8x128.size a ≤ S65536x128.size a := fun i v48 v4191 k0_hw761 k0_h10 => k0_hw761.2.1 k0_h10
theorem k0_off2052_inb : ∀ (i : grid0.Coords) (v48 : BitVec 32) (v4191 : BitVec 32) (k0_hw761 : k0_chk761 i v48 v4191), ∀ (k0_h10 : k0_cond10 i v48 = 1#1), ∀ a, (k0_off2052 v4191) a + S1x128.size a ≤ S8192x128.size a := fun i v48 v4191 k0_hw761 k0_h10 => k0_hw761.2.2 k0_h10

def k0_off2053 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c243_i32 : BitVec 32 := 243#32
  let v4206 : BitVec 32 := Scalar.addi v74 c243_i32
  let v4207 : Index := Scalar.indexCast v4206
  ![v4207.toNat]
def k0_mult756 (v4208 : BitVec 32) : BitVec 32 :=
  let c3_i32_1764 : BitVec 32 := 3#32
  let v4209 : BitVec 32 := Scalar.shrsi v4208 c3_i32_1764
  let c8191_i32_1765 : BitVec 32 := 8191#32
  let v4210 : BitVec 32 := Scalar.andi v4209 c8191_i32_1765
  let c8_i32_1766 : BitVec 32 := 8#32
  let v4211 : BitVec 32 := Scalar.muli v4210 c8_i32_1766
  v4211

def k0_off2054 (v4208 : BitVec 32) : Fin 2 → Nat :=
  let c3_i32_1764 : BitVec 32 := 3#32
  let v4209 : BitVec 32 := Scalar.shrsi v4208 c3_i32_1764
  let c8191_i32_1765 : BitVec 32 := 8191#32
  let v4210 : BitVec 32 := Scalar.andi v4209 c8191_i32_1765
  let c8_i32_1766 : BitVec 32 := 8#32
  let v4211 : BitVec 32 := Scalar.muli v4210 c8_i32_1766
  let v4212 : BitVec 32 := v4211
  let v4213 : Index := Scalar.indexCast v4212
  let c0_1767 : Index := 0#32
  ![v4213.toNat, 0]
def k0_off2055 (v4208 : BitVec 32) : Fin 2 → Nat :=
  let c3_i32_1764 : BitVec 32 := 3#32
  let v4209 : BitVec 32 := Scalar.shrsi v4208 c3_i32_1764
  let c8191_i32_1765 : BitVec 32 := 8191#32
  let v4210 : BitVec 32 := Scalar.andi v4209 c8191_i32_1765
  let v4218 : Index := Scalar.indexCast v4210
  let c0_1769 : Index := 0#32
  ![v4218.toNat, 0]

def k0_chk762 (i : grid0.Coords) (v48 : BitVec 32) (v4208 : BitVec 32) : Prop :=
  (∀ (k0_h10 : k0_cond10 i v48 = 1#1), 8 ∣ (k0_mult756 v4208).toNat) ∧
  (∀ (k0_h10 : k0_cond10 i v48 = 1#1), ∀ a, (k0_off2054 v4208) a + S8x128.size a ≤ S65536x128.size a) ∧
  (∀ (k0_h10 : k0_cond10 i v48 = 1#1), ∀ a, (k0_off2055 v4208) a + S1x128.size a ≤ S8192x128.size a)
theorem k0_mult756_dvd : ∀ (i : grid0.Coords) (v48 : BitVec 32) (v4208 : BitVec 32) (k0_hw762 : k0_chk762 i v48 v4208), ∀ (k0_h10 : k0_cond10 i v48 = 1#1), 8 ∣ (k0_mult756 v4208).toNat := fun i v48 v4208 k0_hw762 k0_h10 => k0_hw762.1 k0_h10
theorem k0_off2054_inb : ∀ (i : grid0.Coords) (v48 : BitVec 32) (v4208 : BitVec 32) (k0_hw762 : k0_chk762 i v48 v4208), ∀ (k0_h10 : k0_cond10 i v48 = 1#1), ∀ a, (k0_off2054 v4208) a + S8x128.size a ≤ S65536x128.size a := fun i v48 v4208 k0_hw762 k0_h10 => k0_hw762.2.1 k0_h10
theorem k0_off2055_inb : ∀ (i : grid0.Coords) (v48 : BitVec 32) (v4208 : BitVec 32) (k0_hw762 : k0_chk762 i v48 v4208), ∀ (k0_h10 : k0_cond10 i v48 = 1#1), ∀ a, (k0_off2055 v4208) a + S1x128.size a ≤ S8192x128.size a := fun i v48 v4208 k0_hw762 k0_h10 => k0_hw762.2.2 k0_h10

def k0_off2056 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c244_i32 : BitVec 32 := 244#32
  let v4223 : BitVec 32 := Scalar.addi v74 c244_i32
  let v4224 : Index := Scalar.indexCast v4223
  ![v4224.toNat]
def k0_mult757 (v4225 : BitVec 32) : BitVec 32 :=
  let c3_i32_1771 : BitVec 32 := 3#32
  let v4226 : BitVec 32 := Scalar.shrsi v4225 c3_i32_1771
  let c8191_i32_1772 : BitVec 32 := 8191#32
  let v4227 : BitVec 32 := Scalar.andi v4226 c8191_i32_1772
  let c8_i32_1773 : BitVec 32 := 8#32
  let v4228 : BitVec 32 := Scalar.muli v4227 c8_i32_1773
  v4228

def k0_off2057 (v4225 : BitVec 32) : Fin 2 → Nat :=
  let c3_i32_1771 : BitVec 32 := 3#32
  let v4226 : BitVec 32 := Scalar.shrsi v4225 c3_i32_1771
  let c8191_i32_1772 : BitVec 32 := 8191#32
  let v4227 : BitVec 32 := Scalar.andi v4226 c8191_i32_1772
  let c8_i32_1773 : BitVec 32 := 8#32
  let v4228 : BitVec 32 := Scalar.muli v4227 c8_i32_1773
  let v4229 : BitVec 32 := v4228
  let v4230 : Index := Scalar.indexCast v4229
  let c0_1774 : Index := 0#32
  ![v4230.toNat, 0]
def k0_off2058 (v4225 : BitVec 32) : Fin 2 → Nat :=
  let c3_i32_1771 : BitVec 32 := 3#32
  let v4226 : BitVec 32 := Scalar.shrsi v4225 c3_i32_1771
  let c8191_i32_1772 : BitVec 32 := 8191#32
  let v4227 : BitVec 32 := Scalar.andi v4226 c8191_i32_1772
  let v4235 : Index := Scalar.indexCast v4227
  let c0_1776 : Index := 0#32
  ![v4235.toNat, 0]

def k0_chk763 (i : grid0.Coords) (v48 : BitVec 32) (v4225 : BitVec 32) : Prop :=
  (∀ (k0_h10 : k0_cond10 i v48 = 1#1), 8 ∣ (k0_mult757 v4225).toNat) ∧
  (∀ (k0_h10 : k0_cond10 i v48 = 1#1), ∀ a, (k0_off2057 v4225) a + S8x128.size a ≤ S65536x128.size a) ∧
  (∀ (k0_h10 : k0_cond10 i v48 = 1#1), ∀ a, (k0_off2058 v4225) a + S1x128.size a ≤ S8192x128.size a)
theorem k0_mult757_dvd : ∀ (i : grid0.Coords) (v48 : BitVec 32) (v4225 : BitVec 32) (k0_hw763 : k0_chk763 i v48 v4225), ∀ (k0_h10 : k0_cond10 i v48 = 1#1), 8 ∣ (k0_mult757 v4225).toNat := fun i v48 v4225 k0_hw763 k0_h10 => k0_hw763.1 k0_h10
theorem k0_off2057_inb : ∀ (i : grid0.Coords) (v48 : BitVec 32) (v4225 : BitVec 32) (k0_hw763 : k0_chk763 i v48 v4225), ∀ (k0_h10 : k0_cond10 i v48 = 1#1), ∀ a, (k0_off2057 v4225) a + S8x128.size a ≤ S65536x128.size a := fun i v48 v4225 k0_hw763 k0_h10 => k0_hw763.2.1 k0_h10
theorem k0_off2058_inb : ∀ (i : grid0.Coords) (v48 : BitVec 32) (v4225 : BitVec 32) (k0_hw763 : k0_chk763 i v48 v4225), ∀ (k0_h10 : k0_cond10 i v48 = 1#1), ∀ a, (k0_off2058 v4225) a + S1x128.size a ≤ S8192x128.size a := fun i v48 v4225 k0_hw763 k0_h10 => k0_hw763.2.2 k0_h10

def k0_off2059 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c245_i32 : BitVec 32 := 245#32
  let v4240 : BitVec 32 := Scalar.addi v74 c245_i32
  let v4241 : Index := Scalar.indexCast v4240
  ![v4241.toNat]
def k0_mult758 (v4242 : BitVec 32) : BitVec 32 :=
  let c3_i32_1778 : BitVec 32 := 3#32
  let v4243 : BitVec 32 := Scalar.shrsi v4242 c3_i32_1778
  let c8191_i32_1779 : BitVec 32 := 8191#32
  let v4244 : BitVec 32 := Scalar.andi v4243 c8191_i32_1779
  let c8_i32_1780 : BitVec 32 := 8#32
  let v4245 : BitVec 32 := Scalar.muli v4244 c8_i32_1780
  v4245

def k0_off2060 (v4242 : BitVec 32) : Fin 2 → Nat :=
  let c3_i32_1778 : BitVec 32 := 3#32
  let v4243 : BitVec 32 := Scalar.shrsi v4242 c3_i32_1778
  let c8191_i32_1779 : BitVec 32 := 8191#32
  let v4244 : BitVec 32 := Scalar.andi v4243 c8191_i32_1779
  let c8_i32_1780 : BitVec 32 := 8#32
  let v4245 : BitVec 32 := Scalar.muli v4244 c8_i32_1780
  let v4246 : BitVec 32 := v4245
  let v4247 : Index := Scalar.indexCast v4246
  let c0_1781 : Index := 0#32
  ![v4247.toNat, 0]
def k0_off2061 (v4242 : BitVec 32) : Fin 2 → Nat :=
  let c3_i32_1778 : BitVec 32 := 3#32
  let v4243 : BitVec 32 := Scalar.shrsi v4242 c3_i32_1778
  let c8191_i32_1779 : BitVec 32 := 8191#32
  let v4244 : BitVec 32 := Scalar.andi v4243 c8191_i32_1779
  let v4252 : Index := Scalar.indexCast v4244
  let c0_1783 : Index := 0#32
  ![v4252.toNat, 0]

def k0_chk764 (i : grid0.Coords) (v48 : BitVec 32) (v4242 : BitVec 32) : Prop :=
  (∀ (k0_h10 : k0_cond10 i v48 = 1#1), 8 ∣ (k0_mult758 v4242).toNat) ∧
  (∀ (k0_h10 : k0_cond10 i v48 = 1#1), ∀ a, (k0_off2060 v4242) a + S8x128.size a ≤ S65536x128.size a) ∧
  (∀ (k0_h10 : k0_cond10 i v48 = 1#1), ∀ a, (k0_off2061 v4242) a + S1x128.size a ≤ S8192x128.size a)
theorem k0_mult758_dvd : ∀ (i : grid0.Coords) (v48 : BitVec 32) (v4242 : BitVec 32) (k0_hw764 : k0_chk764 i v48 v4242), ∀ (k0_h10 : k0_cond10 i v48 = 1#1), 8 ∣ (k0_mult758 v4242).toNat := fun i v48 v4242 k0_hw764 k0_h10 => k0_hw764.1 k0_h10
theorem k0_off2060_inb : ∀ (i : grid0.Coords) (v48 : BitVec 32) (v4242 : BitVec 32) (k0_hw764 : k0_chk764 i v48 v4242), ∀ (k0_h10 : k0_cond10 i v48 = 1#1), ∀ a, (k0_off2060 v4242) a + S8x128.size a ≤ S65536x128.size a := fun i v48 v4242 k0_hw764 k0_h10 => k0_hw764.2.1 k0_h10
theorem k0_off2061_inb : ∀ (i : grid0.Coords) (v48 : BitVec 32) (v4242 : BitVec 32) (k0_hw764 : k0_chk764 i v48 v4242), ∀ (k0_h10 : k0_cond10 i v48 = 1#1), ∀ a, (k0_off2061 v4242) a + S1x128.size a ≤ S8192x128.size a := fun i v48 v4242 k0_hw764 k0_h10 => k0_hw764.2.2 k0_h10

def k0_off2062 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c246_i32 : BitVec 32 := 246#32
  let v4257 : BitVec 32 := Scalar.addi v74 c246_i32
  let v4258 : Index := Scalar.indexCast v4257
  ![v4258.toNat]
def k0_mult759 (v4259 : BitVec 32) : BitVec 32 :=
  let c3_i32_1785 : BitVec 32 := 3#32
  let v4260 : BitVec 32 := Scalar.shrsi v4259 c3_i32_1785
  let c8191_i32_1786 : BitVec 32 := 8191#32
  let v4261 : BitVec 32 := Scalar.andi v4260 c8191_i32_1786
  let c8_i32_1787 : BitVec 32 := 8#32
  let v4262 : BitVec 32 := Scalar.muli v4261 c8_i32_1787
  v4262

def k0_off2063 (v4259 : BitVec 32) : Fin 2 → Nat :=
  let c3_i32_1785 : BitVec 32 := 3#32
  let v4260 : BitVec 32 := Scalar.shrsi v4259 c3_i32_1785
  let c8191_i32_1786 : BitVec 32 := 8191#32
  let v4261 : BitVec 32 := Scalar.andi v4260 c8191_i32_1786
  let c8_i32_1787 : BitVec 32 := 8#32
  let v4262 : BitVec 32 := Scalar.muli v4261 c8_i32_1787
  let v4263 : BitVec 32 := v4262
  let v4264 : Index := Scalar.indexCast v4263
  let c0_1788 : Index := 0#32
  ![v4264.toNat, 0]
def k0_off2064 (v4259 : BitVec 32) : Fin 2 → Nat :=
  let c3_i32_1785 : BitVec 32 := 3#32
  let v4260 : BitVec 32 := Scalar.shrsi v4259 c3_i32_1785
  let c8191_i32_1786 : BitVec 32 := 8191#32
  let v4261 : BitVec 32 := Scalar.andi v4260 c8191_i32_1786
  let v4269 : Index := Scalar.indexCast v4261
  let c0_1790 : Index := 0#32
  ![v4269.toNat, 0]

def k0_chk765 (i : grid0.Coords) (v48 : BitVec 32) (v4259 : BitVec 32) : Prop :=
  (∀ (k0_h10 : k0_cond10 i v48 = 1#1), 8 ∣ (k0_mult759 v4259).toNat) ∧
  (∀ (k0_h10 : k0_cond10 i v48 = 1#1), ∀ a, (k0_off2063 v4259) a + S8x128.size a ≤ S65536x128.size a) ∧
  (∀ (k0_h10 : k0_cond10 i v48 = 1#1), ∀ a, (k0_off2064 v4259) a + S1x128.size a ≤ S8192x128.size a)
theorem k0_mult759_dvd : ∀ (i : grid0.Coords) (v48 : BitVec 32) (v4259 : BitVec 32) (k0_hw765 : k0_chk765 i v48 v4259), ∀ (k0_h10 : k0_cond10 i v48 = 1#1), 8 ∣ (k0_mult759 v4259).toNat := fun i v48 v4259 k0_hw765 k0_h10 => k0_hw765.1 k0_h10
theorem k0_off2063_inb : ∀ (i : grid0.Coords) (v48 : BitVec 32) (v4259 : BitVec 32) (k0_hw765 : k0_chk765 i v48 v4259), ∀ (k0_h10 : k0_cond10 i v48 = 1#1), ∀ a, (k0_off2063 v4259) a + S8x128.size a ≤ S65536x128.size a := fun i v48 v4259 k0_hw765 k0_h10 => k0_hw765.2.1 k0_h10
theorem k0_off2064_inb : ∀ (i : grid0.Coords) (v48 : BitVec 32) (v4259 : BitVec 32) (k0_hw765 : k0_chk765 i v48 v4259), ∀ (k0_h10 : k0_cond10 i v48 = 1#1), ∀ a, (k0_off2064 v4259) a + S1x128.size a ≤ S8192x128.size a := fun i v48 v4259 k0_hw765 k0_h10 => k0_hw765.2.2 k0_h10

def k0_off2065 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c247_i32 : BitVec 32 := 247#32
  let v4274 : BitVec 32 := Scalar.addi v74 c247_i32
  let v4275 : Index := Scalar.indexCast v4274
  ![v4275.toNat]
def k0_mult760 (v4276 : BitVec 32) : BitVec 32 :=
  let c3_i32_1792 : BitVec 32 := 3#32
  let v4277 : BitVec 32 := Scalar.shrsi v4276 c3_i32_1792
  let c8191_i32_1793 : BitVec 32 := 8191#32
  let v4278 : BitVec 32 := Scalar.andi v4277 c8191_i32_1793
  let c8_i32_1794 : BitVec 32 := 8#32
  let v4279 : BitVec 32 := Scalar.muli v4278 c8_i32_1794
  v4279

def k0_off2066 (v4276 : BitVec 32) : Fin 2 → Nat :=
  let c3_i32_1792 : BitVec 32 := 3#32
  let v4277 : BitVec 32 := Scalar.shrsi v4276 c3_i32_1792
  let c8191_i32_1793 : BitVec 32 := 8191#32
  let v4278 : BitVec 32 := Scalar.andi v4277 c8191_i32_1793
  let c8_i32_1794 : BitVec 32 := 8#32
  let v4279 : BitVec 32 := Scalar.muli v4278 c8_i32_1794
  let v4280 : BitVec 32 := v4279
  let v4281 : Index := Scalar.indexCast v4280
  let c0_1795 : Index := 0#32
  ![v4281.toNat, 0]
def k0_off2067 (v4276 : BitVec 32) : Fin 2 → Nat :=
  let c3_i32_1792 : BitVec 32 := 3#32
  let v4277 : BitVec 32 := Scalar.shrsi v4276 c3_i32_1792
  let c8191_i32_1793 : BitVec 32 := 8191#32
  let v4278 : BitVec 32 := Scalar.andi v4277 c8191_i32_1793
  let v4286 : Index := Scalar.indexCast v4278
  let c0_1797 : Index := 0#32
  ![v4286.toNat, 0]

def k0_chk766 (i : grid0.Coords) (v48 : BitVec 32) (v4276 : BitVec 32) : Prop :=
  (∀ (k0_h10 : k0_cond10 i v48 = 1#1), 8 ∣ (k0_mult760 v4276).toNat) ∧
  (∀ (k0_h10 : k0_cond10 i v48 = 1#1), ∀ a, (k0_off2066 v4276) a + S8x128.size a ≤ S65536x128.size a) ∧
  (∀ (k0_h10 : k0_cond10 i v48 = 1#1), ∀ a, (k0_off2067 v4276) a + S1x128.size a ≤ S8192x128.size a)
theorem k0_mult760_dvd : ∀ (i : grid0.Coords) (v48 : BitVec 32) (v4276 : BitVec 32) (k0_hw766 : k0_chk766 i v48 v4276), ∀ (k0_h10 : k0_cond10 i v48 = 1#1), 8 ∣ (k0_mult760 v4276).toNat := fun i v48 v4276 k0_hw766 k0_h10 => k0_hw766.1 k0_h10
theorem k0_off2066_inb : ∀ (i : grid0.Coords) (v48 : BitVec 32) (v4276 : BitVec 32) (k0_hw766 : k0_chk766 i v48 v4276), ∀ (k0_h10 : k0_cond10 i v48 = 1#1), ∀ a, (k0_off2066 v4276) a + S8x128.size a ≤ S65536x128.size a := fun i v48 v4276 k0_hw766 k0_h10 => k0_hw766.2.1 k0_h10
theorem k0_off2067_inb : ∀ (i : grid0.Coords) (v48 : BitVec 32) (v4276 : BitVec 32) (k0_hw766 : k0_chk766 i v48 v4276), ∀ (k0_h10 : k0_cond10 i v48 = 1#1), ∀ a, (k0_off2067 v4276) a + S1x128.size a ≤ S8192x128.size a := fun i v48 v4276 k0_hw766 k0_h10 => k0_hw766.2.2 k0_h10

def k0_off2068 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c248_i32 : BitVec 32 := 248#32
  let v4291 : BitVec 32 := Scalar.addi v74 c248_i32
  let v4292 : Index := Scalar.indexCast v4291
  ![v4292.toNat]
def k0_mult761 (v4293 : BitVec 32) : BitVec 32 :=
  let c3_i32_1799 : BitVec 32 := 3#32
  let v4294 : BitVec 32 := Scalar.shrsi v4293 c3_i32_1799
  let c8191_i32_1800 : BitVec 32 := 8191#32
  let v4295 : BitVec 32 := Scalar.andi v4294 c8191_i32_1800
  let c8_i32_1801 : BitVec 32 := 8#32
  let v4296 : BitVec 32 := Scalar.muli v4295 c8_i32_1801
  v4296

def k0_off2069 (v4293 : BitVec 32) : Fin 2 → Nat :=
  let c3_i32_1799 : BitVec 32 := 3#32
  let v4294 : BitVec 32 := Scalar.shrsi v4293 c3_i32_1799
  let c8191_i32_1800 : BitVec 32 := 8191#32
  let v4295 : BitVec 32 := Scalar.andi v4294 c8191_i32_1800
  let c8_i32_1801 : BitVec 32 := 8#32
  let v4296 : BitVec 32 := Scalar.muli v4295 c8_i32_1801
  let v4297 : BitVec 32 := v4296
  let v4298 : Index := Scalar.indexCast v4297
  let c0_1802 : Index := 0#32
  ![v4298.toNat, 0]
def k0_off2070 (v4293 : BitVec 32) : Fin 2 → Nat :=
  let c3_i32_1799 : BitVec 32 := 3#32
  let v4294 : BitVec 32 := Scalar.shrsi v4293 c3_i32_1799
  let c8191_i32_1800 : BitVec 32 := 8191#32
  let v4295 : BitVec 32 := Scalar.andi v4294 c8191_i32_1800
  let v4303 : Index := Scalar.indexCast v4295
  let c0_1804 : Index := 0#32
  ![v4303.toNat, 0]

def k0_chk767 (i : grid0.Coords) (v48 : BitVec 32) (v4293 : BitVec 32) : Prop :=
  (∀ (k0_h10 : k0_cond10 i v48 = 1#1), 8 ∣ (k0_mult761 v4293).toNat) ∧
  (∀ (k0_h10 : k0_cond10 i v48 = 1#1), ∀ a, (k0_off2069 v4293) a + S8x128.size a ≤ S65536x128.size a) ∧
  (∀ (k0_h10 : k0_cond10 i v48 = 1#1), ∀ a, (k0_off2070 v4293) a + S1x128.size a ≤ S8192x128.size a)
theorem k0_mult761_dvd : ∀ (i : grid0.Coords) (v48 : BitVec 32) (v4293 : BitVec 32) (k0_hw767 : k0_chk767 i v48 v4293), ∀ (k0_h10 : k0_cond10 i v48 = 1#1), 8 ∣ (k0_mult761 v4293).toNat := fun i v48 v4293 k0_hw767 k0_h10 => k0_hw767.1 k0_h10
theorem k0_off2069_inb : ∀ (i : grid0.Coords) (v48 : BitVec 32) (v4293 : BitVec 32) (k0_hw767 : k0_chk767 i v48 v4293), ∀ (k0_h10 : k0_cond10 i v48 = 1#1), ∀ a, (k0_off2069 v4293) a + S8x128.size a ≤ S65536x128.size a := fun i v48 v4293 k0_hw767 k0_h10 => k0_hw767.2.1 k0_h10
theorem k0_off2070_inb : ∀ (i : grid0.Coords) (v48 : BitVec 32) (v4293 : BitVec 32) (k0_hw767 : k0_chk767 i v48 v4293), ∀ (k0_h10 : k0_cond10 i v48 = 1#1), ∀ a, (k0_off2070 v4293) a + S1x128.size a ≤ S8192x128.size a := fun i v48 v4293 k0_hw767 k0_h10 => k0_hw767.2.2 k0_h10

def k0_off2071 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c249_i32 : BitVec 32 := 249#32
  let v4308 : BitVec 32 := Scalar.addi v74 c249_i32
  let v4309 : Index := Scalar.indexCast v4308
  ![v4309.toNat]
def k0_mult762 (v4310 : BitVec 32) : BitVec 32 :=
  let c3_i32_1807 : BitVec 32 := 3#32
  let v4311 : BitVec 32 := Scalar.shrsi v4310 c3_i32_1807
  let c8191_i32_1808 : BitVec 32 := 8191#32
  let v4312 : BitVec 32 := Scalar.andi v4311 c8191_i32_1808
  let c8_i32_1809 : BitVec 32 := 8#32
  let v4313 : BitVec 32 := Scalar.muli v4312 c8_i32_1809
  v4313

def k0_off2072 (v4310 : BitVec 32) : Fin 2 → Nat :=
  let c3_i32_1807 : BitVec 32 := 3#32
  let v4311 : BitVec 32 := Scalar.shrsi v4310 c3_i32_1807
  let c8191_i32_1808 : BitVec 32 := 8191#32
  let v4312 : BitVec 32 := Scalar.andi v4311 c8191_i32_1808
  let c8_i32_1809 : BitVec 32 := 8#32
  let v4313 : BitVec 32 := Scalar.muli v4312 c8_i32_1809
  let v4314 : BitVec 32 := v4313
  let v4315 : Index := Scalar.indexCast v4314
  let c0_1810 : Index := 0#32
  ![v4315.toNat, 0]
def k0_off2073 (v4310 : BitVec 32) : Fin 2 → Nat :=
  let c3_i32_1807 : BitVec 32 := 3#32
  let v4311 : BitVec 32 := Scalar.shrsi v4310 c3_i32_1807
  let c8191_i32_1808 : BitVec 32 := 8191#32
  let v4312 : BitVec 32 := Scalar.andi v4311 c8191_i32_1808
  let v4320 : Index := Scalar.indexCast v4312
  let c0_1812 : Index := 0#32
  ![v4320.toNat, 0]

def k0_chk768 (i : grid0.Coords) (v48 : BitVec 32) (v4310 : BitVec 32) : Prop :=
  (∀ (k0_h10 : k0_cond10 i v48 = 1#1), 8 ∣ (k0_mult762 v4310).toNat) ∧
  (∀ (k0_h10 : k0_cond10 i v48 = 1#1), ∀ a, (k0_off2072 v4310) a + S8x128.size a ≤ S65536x128.size a) ∧
  (∀ (k0_h10 : k0_cond10 i v48 = 1#1), ∀ a, (k0_off2073 v4310) a + S1x128.size a ≤ S8192x128.size a)
theorem k0_mult762_dvd : ∀ (i : grid0.Coords) (v48 : BitVec 32) (v4310 : BitVec 32) (k0_hw768 : k0_chk768 i v48 v4310), ∀ (k0_h10 : k0_cond10 i v48 = 1#1), 8 ∣ (k0_mult762 v4310).toNat := fun i v48 v4310 k0_hw768 k0_h10 => k0_hw768.1 k0_h10
theorem k0_off2072_inb : ∀ (i : grid0.Coords) (v48 : BitVec 32) (v4310 : BitVec 32) (k0_hw768 : k0_chk768 i v48 v4310), ∀ (k0_h10 : k0_cond10 i v48 = 1#1), ∀ a, (k0_off2072 v4310) a + S8x128.size a ≤ S65536x128.size a := fun i v48 v4310 k0_hw768 k0_h10 => k0_hw768.2.1 k0_h10
theorem k0_off2073_inb : ∀ (i : grid0.Coords) (v48 : BitVec 32) (v4310 : BitVec 32) (k0_hw768 : k0_chk768 i v48 v4310), ∀ (k0_h10 : k0_cond10 i v48 = 1#1), ∀ a, (k0_off2073 v4310) a + S1x128.size a ≤ S8192x128.size a := fun i v48 v4310 k0_hw768 k0_h10 => k0_hw768.2.2 k0_h10

def k0_off2074 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c250_i32 : BitVec 32 := 250#32
  let v4325 : BitVec 32 := Scalar.addi v74 c250_i32
  let v4326 : Index := Scalar.indexCast v4325
  ![v4326.toNat]
def k0_mult763 (v4327 : BitVec 32) : BitVec 32 :=
  let c3_i32_1814 : BitVec 32 := 3#32
  let v4328 : BitVec 32 := Scalar.shrsi v4327 c3_i32_1814
  let c8191_i32_1815 : BitVec 32 := 8191#32
  let v4329 : BitVec 32 := Scalar.andi v4328 c8191_i32_1815
  let c8_i32_1816 : BitVec 32 := 8#32
  let v4330 : BitVec 32 := Scalar.muli v4329 c8_i32_1816
  v4330

def k0_off2075 (v4327 : BitVec 32) : Fin 2 → Nat :=
  let c3_i32_1814 : BitVec 32 := 3#32
  let v4328 : BitVec 32 := Scalar.shrsi v4327 c3_i32_1814
  let c8191_i32_1815 : BitVec 32 := 8191#32
  let v4329 : BitVec 32 := Scalar.andi v4328 c8191_i32_1815
  let c8_i32_1816 : BitVec 32 := 8#32
  let v4330 : BitVec 32 := Scalar.muli v4329 c8_i32_1816
  let v4331 : BitVec 32 := v4330
  let v4332 : Index := Scalar.indexCast v4331
  let c0_1817 : Index := 0#32
  ![v4332.toNat, 0]
def k0_off2076 (v4327 : BitVec 32) : Fin 2 → Nat :=
  let c3_i32_1814 : BitVec 32 := 3#32
  let v4328 : BitVec 32 := Scalar.shrsi v4327 c3_i32_1814
  let c8191_i32_1815 : BitVec 32 := 8191#32
  let v4329 : BitVec 32 := Scalar.andi v4328 c8191_i32_1815
  let v4337 : Index := Scalar.indexCast v4329
  let c0_1819 : Index := 0#32
  ![v4337.toNat, 0]

def k0_chk769 (i : grid0.Coords) (v48 : BitVec 32) (v4327 : BitVec 32) : Prop :=
  (∀ (k0_h10 : k0_cond10 i v48 = 1#1), 8 ∣ (k0_mult763 v4327).toNat) ∧
  (∀ (k0_h10 : k0_cond10 i v48 = 1#1), ∀ a, (k0_off2075 v4327) a + S8x128.size a ≤ S65536x128.size a) ∧
  (∀ (k0_h10 : k0_cond10 i v48 = 1#1), ∀ a, (k0_off2076 v4327) a + S1x128.size a ≤ S8192x128.size a)
theorem k0_mult763_dvd : ∀ (i : grid0.Coords) (v48 : BitVec 32) (v4327 : BitVec 32) (k0_hw769 : k0_chk769 i v48 v4327), ∀ (k0_h10 : k0_cond10 i v48 = 1#1), 8 ∣ (k0_mult763 v4327).toNat := fun i v48 v4327 k0_hw769 k0_h10 => k0_hw769.1 k0_h10
theorem k0_off2075_inb : ∀ (i : grid0.Coords) (v48 : BitVec 32) (v4327 : BitVec 32) (k0_hw769 : k0_chk769 i v48 v4327), ∀ (k0_h10 : k0_cond10 i v48 = 1#1), ∀ a, (k0_off2075 v4327) a + S8x128.size a ≤ S65536x128.size a := fun i v48 v4327 k0_hw769 k0_h10 => k0_hw769.2.1 k0_h10
theorem k0_off2076_inb : ∀ (i : grid0.Coords) (v48 : BitVec 32) (v4327 : BitVec 32) (k0_hw769 : k0_chk769 i v48 v4327), ∀ (k0_h10 : k0_cond10 i v48 = 1#1), ∀ a, (k0_off2076 v4327) a + S1x128.size a ≤ S8192x128.size a := fun i v48 v4327 k0_hw769 k0_h10 => k0_hw769.2.2 k0_h10

def k0_off2077 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c251_i32 : BitVec 32 := 251#32
  let v4342 : BitVec 32 := Scalar.addi v74 c251_i32
  let v4343 : Index := Scalar.indexCast v4342
  ![v4343.toNat]
def k0_mult764 (v4344 : BitVec 32) : BitVec 32 :=
  let c3_i32_1821 : BitVec 32 := 3#32
  let v4345 : BitVec 32 := Scalar.shrsi v4344 c3_i32_1821
  let c8191_i32_1822 : BitVec 32 := 8191#32
  let v4346 : BitVec 32 := Scalar.andi v4345 c8191_i32_1822
  let c8_i32_1823 : BitVec 32 := 8#32
  let v4347 : BitVec 32 := Scalar.muli v4346 c8_i32_1823
  v4347

def k0_off2078 (v4344 : BitVec 32) : Fin 2 → Nat :=
  let c3_i32_1821 : BitVec 32 := 3#32
  let v4345 : BitVec 32 := Scalar.shrsi v4344 c3_i32_1821
  let c8191_i32_1822 : BitVec 32 := 8191#32
  let v4346 : BitVec 32 := Scalar.andi v4345 c8191_i32_1822
  let c8_i32_1823 : BitVec 32 := 8#32
  let v4347 : BitVec 32 := Scalar.muli v4346 c8_i32_1823
  let v4348 : BitVec 32 := v4347
  let v4349 : Index := Scalar.indexCast v4348
  let c0_1824 : Index := 0#32
  ![v4349.toNat, 0]
def k0_off2079 (v4344 : BitVec 32) : Fin 2 → Nat :=
  let c3_i32_1821 : BitVec 32 := 3#32
  let v4345 : BitVec 32 := Scalar.shrsi v4344 c3_i32_1821
  let c8191_i32_1822 : BitVec 32 := 8191#32
  let v4346 : BitVec 32 := Scalar.andi v4345 c8191_i32_1822
  let v4354 : Index := Scalar.indexCast v4346
  let c0_1826 : Index := 0#32
  ![v4354.toNat, 0]

def k0_chk770 (i : grid0.Coords) (v48 : BitVec 32) (v4344 : BitVec 32) : Prop :=
  (∀ (k0_h10 : k0_cond10 i v48 = 1#1), 8 ∣ (k0_mult764 v4344).toNat) ∧
  (∀ (k0_h10 : k0_cond10 i v48 = 1#1), ∀ a, (k0_off2078 v4344) a + S8x128.size a ≤ S65536x128.size a) ∧
  (∀ (k0_h10 : k0_cond10 i v48 = 1#1), ∀ a, (k0_off2079 v4344) a + S1x128.size a ≤ S8192x128.size a)
theorem k0_mult764_dvd : ∀ (i : grid0.Coords) (v48 : BitVec 32) (v4344 : BitVec 32) (k0_hw770 : k0_chk770 i v48 v4344), ∀ (k0_h10 : k0_cond10 i v48 = 1#1), 8 ∣ (k0_mult764 v4344).toNat := fun i v48 v4344 k0_hw770 k0_h10 => k0_hw770.1 k0_h10
theorem k0_off2078_inb : ∀ (i : grid0.Coords) (v48 : BitVec 32) (v4344 : BitVec 32) (k0_hw770 : k0_chk770 i v48 v4344), ∀ (k0_h10 : k0_cond10 i v48 = 1#1), ∀ a, (k0_off2078 v4344) a + S8x128.size a ≤ S65536x128.size a := fun i v48 v4344 k0_hw770 k0_h10 => k0_hw770.2.1 k0_h10
theorem k0_off2079_inb : ∀ (i : grid0.Coords) (v48 : BitVec 32) (v4344 : BitVec 32) (k0_hw770 : k0_chk770 i v48 v4344), ∀ (k0_h10 : k0_cond10 i v48 = 1#1), ∀ a, (k0_off2079 v4344) a + S1x128.size a ≤ S8192x128.size a := fun i v48 v4344 k0_hw770 k0_h10 => k0_hw770.2.2 k0_h10

def k0_off2080 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c252_i32 : BitVec 32 := 252#32
  let v4359 : BitVec 32 := Scalar.addi v74 c252_i32
  let v4360 : Index := Scalar.indexCast v4359
  ![v4360.toNat]
def k0_mult765 (v4361 : BitVec 32) : BitVec 32 :=
  let c3_i32_1828 : BitVec 32 := 3#32
  let v4362 : BitVec 32 := Scalar.shrsi v4361 c3_i32_1828
  let c8191_i32_1829 : BitVec 32 := 8191#32
  let v4363 : BitVec 32 := Scalar.andi v4362 c8191_i32_1829
  let c8_i32_1830 : BitVec 32 := 8#32
  let v4364 : BitVec 32 := Scalar.muli v4363 c8_i32_1830
  v4364

def k0_off2081 (v4361 : BitVec 32) : Fin 2 → Nat :=
  let c3_i32_1828 : BitVec 32 := 3#32
  let v4362 : BitVec 32 := Scalar.shrsi v4361 c3_i32_1828
  let c8191_i32_1829 : BitVec 32 := 8191#32
  let v4363 : BitVec 32 := Scalar.andi v4362 c8191_i32_1829
  let c8_i32_1830 : BitVec 32 := 8#32
  let v4364 : BitVec 32 := Scalar.muli v4363 c8_i32_1830
  let v4365 : BitVec 32 := v4364
  let v4366 : Index := Scalar.indexCast v4365
  let c0_1831 : Index := 0#32
  ![v4366.toNat, 0]
def k0_off2082 (v4361 : BitVec 32) : Fin 2 → Nat :=
  let c3_i32_1828 : BitVec 32 := 3#32
  let v4362 : BitVec 32 := Scalar.shrsi v4361 c3_i32_1828
  let c8191_i32_1829 : BitVec 32 := 8191#32
  let v4363 : BitVec 32 := Scalar.andi v4362 c8191_i32_1829
  let v4371 : Index := Scalar.indexCast v4363
  let c0_1833 : Index := 0#32
  ![v4371.toNat, 0]

def k0_chk771 (i : grid0.Coords) (v48 : BitVec 32) (v4361 : BitVec 32) : Prop :=
  (∀ (k0_h10 : k0_cond10 i v48 = 1#1), 8 ∣ (k0_mult765 v4361).toNat) ∧
  (∀ (k0_h10 : k0_cond10 i v48 = 1#1), ∀ a, (k0_off2081 v4361) a + S8x128.size a ≤ S65536x128.size a) ∧
  (∀ (k0_h10 : k0_cond10 i v48 = 1#1), ∀ a, (k0_off2082 v4361) a + S1x128.size a ≤ S8192x128.size a)
theorem k0_mult765_dvd : ∀ (i : grid0.Coords) (v48 : BitVec 32) (v4361 : BitVec 32) (k0_hw771 : k0_chk771 i v48 v4361), ∀ (k0_h10 : k0_cond10 i v48 = 1#1), 8 ∣ (k0_mult765 v4361).toNat := fun i v48 v4361 k0_hw771 k0_h10 => k0_hw771.1 k0_h10
theorem k0_off2081_inb : ∀ (i : grid0.Coords) (v48 : BitVec 32) (v4361 : BitVec 32) (k0_hw771 : k0_chk771 i v48 v4361), ∀ (k0_h10 : k0_cond10 i v48 = 1#1), ∀ a, (k0_off2081 v4361) a + S8x128.size a ≤ S65536x128.size a := fun i v48 v4361 k0_hw771 k0_h10 => k0_hw771.2.1 k0_h10
theorem k0_off2082_inb : ∀ (i : grid0.Coords) (v48 : BitVec 32) (v4361 : BitVec 32) (k0_hw771 : k0_chk771 i v48 v4361), ∀ (k0_h10 : k0_cond10 i v48 = 1#1), ∀ a, (k0_off2082 v4361) a + S1x128.size a ≤ S8192x128.size a := fun i v48 v4361 k0_hw771 k0_h10 => k0_hw771.2.2 k0_h10

def k0_off2083 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c253_i32 : BitVec 32 := 253#32
  let v4376 : BitVec 32 := Scalar.addi v74 c253_i32
  let v4377 : Index := Scalar.indexCast v4376
  ![v4377.toNat]
def k0_mult766 (v4378 : BitVec 32) : BitVec 32 :=
  let c3_i32_1835 : BitVec 32 := 3#32
  let v4379 : BitVec 32 := Scalar.shrsi v4378 c3_i32_1835
  let c8191_i32_1836 : BitVec 32 := 8191#32
  let v4380 : BitVec 32 := Scalar.andi v4379 c8191_i32_1836
  let c8_i32_1837 : BitVec 32 := 8#32
  let v4381 : BitVec 32 := Scalar.muli v4380 c8_i32_1837
  v4381

def k0_off2084 (v4378 : BitVec 32) : Fin 2 → Nat :=
  let c3_i32_1835 : BitVec 32 := 3#32
  let v4379 : BitVec 32 := Scalar.shrsi v4378 c3_i32_1835
  let c8191_i32_1836 : BitVec 32 := 8191#32
  let v4380 : BitVec 32 := Scalar.andi v4379 c8191_i32_1836
  let c8_i32_1837 : BitVec 32 := 8#32
  let v4381 : BitVec 32 := Scalar.muli v4380 c8_i32_1837
  let v4382 : BitVec 32 := v4381
  let v4383 : Index := Scalar.indexCast v4382
  let c0_1838 : Index := 0#32
  ![v4383.toNat, 0]
def k0_off2085 (v4378 : BitVec 32) : Fin 2 → Nat :=
  let c3_i32_1835 : BitVec 32 := 3#32
  let v4379 : BitVec 32 := Scalar.shrsi v4378 c3_i32_1835
  let c8191_i32_1836 : BitVec 32 := 8191#32
  let v4380 : BitVec 32 := Scalar.andi v4379 c8191_i32_1836
  let v4388 : Index := Scalar.indexCast v4380
  let c0_1840 : Index := 0#32
  ![v4388.toNat, 0]

def k0_chk772 (i : grid0.Coords) (v48 : BitVec 32) (v4378 : BitVec 32) : Prop :=
  (∀ (k0_h10 : k0_cond10 i v48 = 1#1), 8 ∣ (k0_mult766 v4378).toNat) ∧
  (∀ (k0_h10 : k0_cond10 i v48 = 1#1), ∀ a, (k0_off2084 v4378) a + S8x128.size a ≤ S65536x128.size a) ∧
  (∀ (k0_h10 : k0_cond10 i v48 = 1#1), ∀ a, (k0_off2085 v4378) a + S1x128.size a ≤ S8192x128.size a)
theorem k0_mult766_dvd : ∀ (i : grid0.Coords) (v48 : BitVec 32) (v4378 : BitVec 32) (k0_hw772 : k0_chk772 i v48 v4378), ∀ (k0_h10 : k0_cond10 i v48 = 1#1), 8 ∣ (k0_mult766 v4378).toNat := fun i v48 v4378 k0_hw772 k0_h10 => k0_hw772.1 k0_h10
theorem k0_off2084_inb : ∀ (i : grid0.Coords) (v48 : BitVec 32) (v4378 : BitVec 32) (k0_hw772 : k0_chk772 i v48 v4378), ∀ (k0_h10 : k0_cond10 i v48 = 1#1), ∀ a, (k0_off2084 v4378) a + S8x128.size a ≤ S65536x128.size a := fun i v48 v4378 k0_hw772 k0_h10 => k0_hw772.2.1 k0_h10
theorem k0_off2085_inb : ∀ (i : grid0.Coords) (v48 : BitVec 32) (v4378 : BitVec 32) (k0_hw772 : k0_chk772 i v48 v4378), ∀ (k0_h10 : k0_cond10 i v48 = 1#1), ∀ a, (k0_off2085 v4378) a + S1x128.size a ≤ S8192x128.size a := fun i v48 v4378 k0_hw772 k0_h10 => k0_hw772.2.2 k0_h10

def k0_off2086 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c254_i32 : BitVec 32 := 254#32
  let v4393 : BitVec 32 := Scalar.addi v74 c254_i32
  let v4394 : Index := Scalar.indexCast v4393
  ![v4394.toNat]
def k0_mult767 (v4395 : BitVec 32) : BitVec 32 :=
  let c3_i32_1842 : BitVec 32 := 3#32
  let v4396 : BitVec 32 := Scalar.shrsi v4395 c3_i32_1842
  let c8191_i32_1843 : BitVec 32 := 8191#32
  let v4397 : BitVec 32 := Scalar.andi v4396 c8191_i32_1843
  let c8_i32_1844 : BitVec 32 := 8#32
  let v4398 : BitVec 32 := Scalar.muli v4397 c8_i32_1844
  v4398

def k0_off2087 (v4395 : BitVec 32) : Fin 2 → Nat :=
  let c3_i32_1842 : BitVec 32 := 3#32
  let v4396 : BitVec 32 := Scalar.shrsi v4395 c3_i32_1842
  let c8191_i32_1843 : BitVec 32 := 8191#32
  let v4397 : BitVec 32 := Scalar.andi v4396 c8191_i32_1843
  let c8_i32_1844 : BitVec 32 := 8#32
  let v4398 : BitVec 32 := Scalar.muli v4397 c8_i32_1844
  let v4399 : BitVec 32 := v4398
  let v4400 : Index := Scalar.indexCast v4399
  let c0_1845 : Index := 0#32
  ![v4400.toNat, 0]
def k0_off2088 (v4395 : BitVec 32) : Fin 2 → Nat :=
  let c3_i32_1842 : BitVec 32 := 3#32
  let v4396 : BitVec 32 := Scalar.shrsi v4395 c3_i32_1842
  let c8191_i32_1843 : BitVec 32 := 8191#32
  let v4397 : BitVec 32 := Scalar.andi v4396 c8191_i32_1843
  let v4405 : Index := Scalar.indexCast v4397
  let c0_1847 : Index := 0#32
  ![v4405.toNat, 0]

def k0_chk773 (i : grid0.Coords) (v48 : BitVec 32) (v4395 : BitVec 32) : Prop :=
  (∀ (k0_h10 : k0_cond10 i v48 = 1#1), 8 ∣ (k0_mult767 v4395).toNat) ∧
  (∀ (k0_h10 : k0_cond10 i v48 = 1#1), ∀ a, (k0_off2087 v4395) a + S8x128.size a ≤ S65536x128.size a) ∧
  (∀ (k0_h10 : k0_cond10 i v48 = 1#1), ∀ a, (k0_off2088 v4395) a + S1x128.size a ≤ S8192x128.size a)
theorem k0_mult767_dvd : ∀ (i : grid0.Coords) (v48 : BitVec 32) (v4395 : BitVec 32) (k0_hw773 : k0_chk773 i v48 v4395), ∀ (k0_h10 : k0_cond10 i v48 = 1#1), 8 ∣ (k0_mult767 v4395).toNat := fun i v48 v4395 k0_hw773 k0_h10 => k0_hw773.1 k0_h10
theorem k0_off2087_inb : ∀ (i : grid0.Coords) (v48 : BitVec 32) (v4395 : BitVec 32) (k0_hw773 : k0_chk773 i v48 v4395), ∀ (k0_h10 : k0_cond10 i v48 = 1#1), ∀ a, (k0_off2087 v4395) a + S8x128.size a ≤ S65536x128.size a := fun i v48 v4395 k0_hw773 k0_h10 => k0_hw773.2.1 k0_h10
theorem k0_off2088_inb : ∀ (i : grid0.Coords) (v48 : BitVec 32) (v4395 : BitVec 32) (k0_hw773 : k0_chk773 i v48 v4395), ∀ (k0_h10 : k0_cond10 i v48 = 1#1), ∀ a, (k0_off2088 v4395) a + S1x128.size a ≤ S8192x128.size a := fun i v48 v4395 k0_hw773 k0_h10 => k0_hw773.2.2 k0_h10

def k0_off2089 (i : grid0.Coords) : Fin 1 → Nat :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let c1_i32_25 : BitVec 32 := 1#32
  let v72 : BitVec 32 := Scalar.addi v38 c1_i32_25
  let c319_i32_26 : BitVec 32 := 319#32
  let v73 : BitVec 32 := Scalar.minsi v72 c319_i32_26
  let c256_i32 : BitVec 32 := 256#32
  let v74 : BitVec 32 := Scalar.muli v73 c256_i32
  let c255_i32 : BitVec 32 := 255#32
  let v4410 : BitVec 32 := Scalar.addi v74 c255_i32
  let v4411 : Index := Scalar.indexCast v4410
  ![v4411.toNat]
def k0_mult768 (v4412 : BitVec 32) : BitVec 32 :=
  let c3_i32_1849 : BitVec 32 := 3#32
  let v4413 : BitVec 32 := Scalar.shrsi v4412 c3_i32_1849
  let c8191_i32_1850 : BitVec 32 := 8191#32
  let v4414 : BitVec 32 := Scalar.andi v4413 c8191_i32_1850
  let c8_i32_1851 : BitVec 32 := 8#32
  let v4415 : BitVec 32 := Scalar.muli v4414 c8_i32_1851
  v4415

def k0_off2090 (v4412 : BitVec 32) : Fin 2 → Nat :=
  let c3_i32_1849 : BitVec 32 := 3#32
  let v4413 : BitVec 32 := Scalar.shrsi v4412 c3_i32_1849
  let c8191_i32_1850 : BitVec 32 := 8191#32
  let v4414 : BitVec 32 := Scalar.andi v4413 c8191_i32_1850
  let c8_i32_1851 : BitVec 32 := 8#32
  let v4415 : BitVec 32 := Scalar.muli v4414 c8_i32_1851
  let v4416 : BitVec 32 := v4415
  let v4417 : Index := Scalar.indexCast v4416
  let c0_1852 : Index := 0#32
  ![v4417.toNat, 0]
def k0_off2091 (v4412 : BitVec 32) : Fin 2 → Nat :=
  let c3_i32_1849 : BitVec 32 := 3#32
  let v4413 : BitVec 32 := Scalar.shrsi v4412 c3_i32_1849
  let c8191_i32_1850 : BitVec 32 := 8191#32
  let v4414 : BitVec 32 := Scalar.andi v4413 c8191_i32_1850
  let v4422 : Index := Scalar.indexCast v4414
  let c0_1854 : Index := 0#32
  ![v4422.toNat, 0]

def k0_chk774 (i : grid0.Coords) (v48 : BitVec 32) (v4412 : BitVec 32) : Prop :=
  (∀ (k0_h10 : k0_cond10 i v48 = 1#1), 8 ∣ (k0_mult768 v4412).toNat) ∧
  (∀ (k0_h10 : k0_cond10 i v48 = 1#1), ∀ a, (k0_off2090 v4412) a + S8x128.size a ≤ S65536x128.size a) ∧
  (∀ (k0_h10 : k0_cond10 i v48 = 1#1), ∀ a, (k0_off2091 v4412) a + S1x128.size a ≤ S8192x128.size a)
theorem k0_mult768_dvd : ∀ (i : grid0.Coords) (v48 : BitVec 32) (v4412 : BitVec 32) (k0_hw774 : k0_chk774 i v48 v4412), ∀ (k0_h10 : k0_cond10 i v48 = 1#1), 8 ∣ (k0_mult768 v4412).toNat := fun i v48 v4412 k0_hw774 k0_h10 => k0_hw774.1 k0_h10
theorem k0_off2090_inb : ∀ (i : grid0.Coords) (v48 : BitVec 32) (v4412 : BitVec 32) (k0_hw774 : k0_chk774 i v48 v4412), ∀ (k0_h10 : k0_cond10 i v48 = 1#1), ∀ a, (k0_off2090 v4412) a + S8x128.size a ≤ S65536x128.size a := fun i v48 v4412 k0_hw774 k0_h10 => k0_hw774.2.1 k0_h10
theorem k0_off2091_inb : ∀ (i : grid0.Coords) (v48 : BitVec 32) (v4412 : BitVec 32) (k0_hw774 : k0_chk774 i v48 v4412), ∀ (k0_h10 : k0_cond10 i v48 = 1#1), ∀ a, (k0_off2091 v4412) a + S1x128.size a ≤ S8192x128.size a := fun i v48 v4412 k0_hw774 k0_h10 => k0_hw774.2.2 k0_h10

def k0_off2092 (v41 : BitVec 32) : Fin 1 → Nat :=
  let c1_i32_1894 : BitVec 32 := 1#32
  let v4538 : BitVec 32 := Scalar.addi c1_i32_1894 v41
  let v4539 : Index := Scalar.indexCast v4538
  ![v4539.toNat]

def k0_chk517 (i : grid0.Coords) (v41 : BitVec 32) (v44 : BitVec 32) (v48 : BitVec 32) : Prop :=
  (∀ (k0_h7 : k0_cond7 i v48 = 1#1), ∀ a, (k0_off1305 v44) a + S1x1.size a ≤ S2x2.size a) ∧
  (∀ (k0_h7 : k0_cond7 i v48 = 1#1), ∀ a, (k0_off1306 v44) a + S1x1x2048x512.size a ≤ S2x2x2048x512.size a) ∧
  (∀ (k0_h7 : k0_cond7 i v48 = 1#1), ∀ a, (k0_off1307 v41) a + S1x2048x512.size a ≤ S64x2048x512.size a) ∧
  (∀ (k0_h7 : k0_cond7 i v48 = 1#1), ∀ a, (k0_off1308 v44) a + S1x1.size a ≤ S2x2.size a) ∧
  (∀ (k0_h7 : k0_cond7 i v48 = 1#1), ∀ a, (k0_off1309 v44) a + S1x1x2048x512.size a ≤ S2x2x2048x512.size a) ∧
  (∀ (k0_h10 : k0_cond10 i v48 = 1#1), ∀ a, (k0_off2092 v41) a + S1.size a ≤ S193.size a)
theorem k0_off1305_inb : ∀ (i : grid0.Coords) (v41 : BitVec 32) (v44 : BitVec 32) (v48 : BitVec 32) (k0_hw517 : k0_chk517 i v41 v44 v48), ∀ (k0_h7 : k0_cond7 i v48 = 1#1), ∀ a, (k0_off1305 v44) a + S1x1.size a ≤ S2x2.size a := fun i v41 v44 v48 k0_hw517 k0_h7 => k0_hw517.1 k0_h7
theorem k0_off1306_inb : ∀ (i : grid0.Coords) (v41 : BitVec 32) (v44 : BitVec 32) (v48 : BitVec 32) (k0_hw517 : k0_chk517 i v41 v44 v48), ∀ (k0_h7 : k0_cond7 i v48 = 1#1), ∀ a, (k0_off1306 v44) a + S1x1x2048x512.size a ≤ S2x2x2048x512.size a := fun i v41 v44 v48 k0_hw517 k0_h7 => k0_hw517.2.1 k0_h7
theorem k0_off1307_inb : ∀ (i : grid0.Coords) (v41 : BitVec 32) (v44 : BitVec 32) (v48 : BitVec 32) (k0_hw517 : k0_chk517 i v41 v44 v48), ∀ (k0_h7 : k0_cond7 i v48 = 1#1), ∀ a, (k0_off1307 v41) a + S1x2048x512.size a ≤ S64x2048x512.size a := fun i v41 v44 v48 k0_hw517 k0_h7 => k0_hw517.2.2.1 k0_h7
theorem k0_off1308_inb : ∀ (i : grid0.Coords) (v41 : BitVec 32) (v44 : BitVec 32) (v48 : BitVec 32) (k0_hw517 : k0_chk517 i v41 v44 v48), ∀ (k0_h7 : k0_cond7 i v48 = 1#1), ∀ a, (k0_off1308 v44) a + S1x1.size a ≤ S2x2.size a := fun i v41 v44 v48 k0_hw517 k0_h7 => k0_hw517.2.2.2.1 k0_h7
theorem k0_off1309_inb : ∀ (i : grid0.Coords) (v41 : BitVec 32) (v44 : BitVec 32) (v48 : BitVec 32) (k0_hw517 : k0_chk517 i v41 v44 v48), ∀ (k0_h7 : k0_cond7 i v48 = 1#1), ∀ a, (k0_off1309 v44) a + S1x1x2048x512.size a ≤ S2x2x2048x512.size a := fun i v41 v44 v48 k0_hw517 k0_h7 => k0_hw517.2.2.2.2.1 k0_h7
theorem k0_off2092_inb : ∀ (i : grid0.Coords) (v41 : BitVec 32) (v44 : BitVec 32) (v48 : BitVec 32) (k0_hw517 : k0_chk517 i v41 v44 v48), ∀ (k0_h10 : k0_cond10 i v48 = 1#1), ∀ a, (k0_off2092 v41) a + S1.size a ≤ S193.size a := fun i v41 v44 v48 k0_hw517 k0_h10 => k0_hw517.2.2.2.2.2 k0_h10

def k0_cond6 (i : grid0.Coords) (v13 : BitVec 32) : BitVec 1 :=
  let c2_i32 : BitVec 32 := 2#32
  let arg0 : BitVec 32 := BitVec.ofNat 32 (i 0).val
  let v3 : BitVec 32 := Scalar.muli c2_i32 arg0
  let v14 : BitVec 1 := Scalar.cmpi .slt v3 v13
  let v_true : BitVec 1 := 1#1
  let v34 : BitVec 1 := Scalar.xori v14 v_true
  let v35 : BitVec 32 := Scalar.extui v34
  let c0_i32_8 : BitVec 32 := 0#32
  let v36 : BitVec 1 := Scalar.cmpi .ne v35 c0_i32_8
  v36

def k0_cond11 (i : grid0.Coords) (v48 : BitVec 32) : BitVec 1 :=
  let c2_i32_9 : BitVec 32 := 2#32
  let arg0 : BitVec 32 := BitVec.ofNat 32 (i 0).val
  let v37 : BitVec 32 := Scalar.muli c2_i32_9 arg0
  let c1_i32_10 : BitVec 32 := 1#32
  let v38 : BitVec 32 := Scalar.addi v37 c1_i32_10
  let v49 : BitVec 1 := Scalar.cmpi .slt v38 v48
  let true_23 : BitVec 1 := 1#1
  let v69 : BitVec 1 := Scalar.xori v49 true_23
  let v70 : BitVec 32 := Scalar.extui v69
  let c0_i32_24 : BitVec 32 := 0#32
  let v71 : BitVec 1 := Scalar.cmpi .ne v70 c0_i32_24
  v71

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S65536x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S320 : Shape := ⟨1, ![320]⟩
abbrev S81920 : Shape := ⟨1, ![81920]⟩
abbrev S193 : Shape := ⟨1, ![193]⟩
abbrev S65536x128 : Shape := ⟨2, ![65536, 128]⟩
abbrev S8192x128 : Shape := ⟨2, ![8192, 128]⟩
abbrev S64x2048x512 : Shape := ⟨3, ![64, 2048, 512]⟩
abbrev S_ : Shape := ⟨0, ![]⟩
abbrev S8192x1024 : Shape := ⟨2, ![8192, 1024]⟩
abbrev S8192x1024x2 : Shape := ⟨3, ![8192, 1024, 2]⟩
abbrev S8192x1024x1 : Shape := ⟨3, ![8192, 1024, 1]⟩
abbrev S8192x2048 : Shape := ⟨2, ![8192, 2048]⟩
abbrev S81920x1 : Shape := ⟨2, ![81920, 1]⟩
abbrev S81920x2048 : Shape := ⟨2, ![81920, 2048]⟩
abbrev S320x256x2048 : Shape := ⟨3, ![320, 256, 2048]⟩
abbrev S320x1 : Shape := ⟨2, ![320, 1]⟩
abbrev S320x2048x512 : Shape := ⟨3, ![320, 2048, 512]⟩
abbrev S320x256x512 : Shape := ⟨3, ![320, 256, 512]⟩
abbrev S320x256 : Shape := ⟨2, ![320, 256]⟩
abbrev S64 : Shape := ⟨1, ![64]⟩
abbrev S1048576 : Shape := ⟨1, ![1048576]⟩
abbrev S320x256x1 : Shape := ⟨3, ![320, 256, 1]⟩
abbrev S1 : Shape := ⟨1, ![1]⟩
abbrev S320x1x1 : Shape := ⟨3, ![320, 1, 1]⟩
abbrev S81920x512 : Shape := ⟨2, ![81920, 512]⟩

abbrev nBuf : Space → Nat
  | .hbm => 74
  | .vmem => 0
  | .smem => 0
  | _ => 0

abbrev bufTy : (tb : Table) → Fin (tcTables nBuf tb) → BufTy
  | .hbm, ⟨0, _⟩ => ⟨S320, .i32⟩
  | .hbm, ⟨1, _⟩ => ⟨S81920, .i32⟩
  | .hbm, ⟨2, _⟩ => ⟨S193, .i32⟩
  | .hbm, ⟨3, _⟩ => ⟨S65536x128, .i32⟩
  | .hbm, ⟨4, _⟩ => ⟨S8192x128, .f32⟩
  | .hbm, ⟨5, _⟩ => ⟨S64x2048x512, .f32⟩
  | .hbm, ⟨6, _⟩ => ⟨S64x2048x512, .f32⟩
  | .hbm, ⟨7, _⟩ => ⟨S_, .i32⟩
  | .hbm, ⟨8, _⟩ => ⟨S81920, .i32⟩
  | .hbm, ⟨9, _⟩ => ⟨S81920, .i32⟩
  | .hbm, ⟨10, _⟩ => ⟨S_, .i32⟩
  | .hbm, ⟨11, _⟩ => ⟨S81920, .i32⟩
  | .hbm, ⟨12, _⟩ => ⟨S81920, .i32⟩
  | .hbm, ⟨13, _⟩ => ⟨S8192x1024, .i32⟩
  | .hbm, ⟨14, _⟩ => ⟨S8192x1024x2, .bf16⟩
  | .hbm, ⟨15, _⟩ => ⟨S8192x1024x2, .f32⟩
  | .hbm, ⟨16, _⟩ => ⟨S8192x1024x1, .f32⟩
  | .hbm, ⟨17, _⟩ => ⟨S8192x1024, .f32⟩
  | .hbm, ⟨18, _⟩ => ⟨S8192x1024x1, .f32⟩
  | .hbm, ⟨19, _⟩ => ⟨S8192x1024, .f32⟩
  | .hbm, ⟨20, _⟩ => ⟨S8192x2048, .f32⟩
  | .hbm, ⟨21, _⟩ => ⟨S81920x1, .i32⟩
  | .hbm, ⟨22, _⟩ => ⟨S81920x2048, .f32⟩
  | .hbm, ⟨23, _⟩ => ⟨S320x256x2048, .f32⟩
  | .hbm, ⟨24, _⟩ => ⟨S320x1, .i32⟩
  | .hbm, ⟨25, _⟩ => ⟨S320x2048x512, .f32⟩
  | .hbm, ⟨26, _⟩ => ⟨S320x1, .i32⟩
  | .hbm, ⟨27, _⟩ => ⟨S320x2048x512, .f32⟩
  | .hbm, ⟨28, _⟩ => ⟨S320x256x512, .f32⟩
  | .hbm, ⟨29, _⟩ => ⟨S320x256x512, .f32⟩
  | .hbm, ⟨30, _⟩ => ⟨S320x256, .i32⟩
  | .hbm, ⟨31, _⟩ => ⟨S81920, .i32⟩
  | .hbm, ⟨32, _⟩ => ⟨S64, .i32⟩
  | .hbm, ⟨33, _⟩ => ⟨S81920x1, .i32⟩
  | .hbm, ⟨34, _⟩ => ⟨S81920, .i32⟩
  | .hbm, ⟨35, _⟩ => ⟨S1048576, .f32⟩
  | .hbm, ⟨36, _⟩ => ⟨S_, .i32⟩
  | .hbm, ⟨37, _⟩ => ⟨S81920, .i32⟩
  | .hbm, ⟨38, _⟩ => ⟨S81920, .i32⟩
  | .hbm, ⟨39, _⟩ => ⟨S81920, .i32⟩
  | .hbm, ⟨40, _⟩ => ⟨S81920x1, .i32⟩
  | .hbm, ⟨41, _⟩ => ⟨S81920, .f32⟩
  | .hbm, ⟨42, _⟩ => ⟨S81920, .i32⟩
  | .hbm, ⟨43, _⟩ => ⟨S81920, .i1⟩
  | .hbm, ⟨44, _⟩ => ⟨S_, .f32⟩
  | .hbm, ⟨45, _⟩ => ⟨S_, .f32⟩
  | .hbm, ⟨46, _⟩ => ⟨S81920, .f32⟩
  | .hbm, ⟨47, _⟩ => ⟨S81920, .f32⟩
  | .hbm, ⟨48, _⟩ => ⟨S320x256x512, .f32⟩
  | .hbm, ⟨49, _⟩ => ⟨S320x256x512, .f32⟩
  | .hbm, ⟨50, _⟩ => ⟨S_, .f32⟩
  | .hbm, ⟨51, _⟩ => ⟨S320x256x512, .f32⟩
  | .hbm, ⟨52, _⟩ => ⟨S320x256x512, .f32⟩
  | .hbm, ⟨53, _⟩ => ⟨S_, .f32⟩
  | .hbm, ⟨54, _⟩ => ⟨S320x256x512, .f32⟩
  | .hbm, ⟨55, _⟩ => ⟨S320x256x512, .f32⟩
  | .hbm, ⟨56, _⟩ => ⟨S320x256x512, .f32⟩
  | .hbm, ⟨57, _⟩ => ⟨S320x256x512, .f32⟩
  | .hbm, ⟨58, _⟩ => ⟨S320x256x1, .f32⟩
  | .hbm, ⟨59, _⟩ => ⟨S320x256x512, .f32⟩
  | .hbm, ⟨60, _⟩ => ⟨S320x256x512, .f32⟩
  | .hbm, ⟨61, _⟩ => ⟨S320, .i32⟩
  | .hbm, ⟨62, _⟩ => ⟨S1, .i32⟩
  | .hbm, ⟨63, _⟩ => ⟨S_, .i32⟩
  | .hbm, ⟨64, _⟩ => ⟨S320, .i32⟩
  | .hbm, ⟨65, _⟩ => ⟨S320, .i1⟩
  | .hbm, ⟨66, _⟩ => ⟨S320x1x1, .i1⟩
  | .hbm, ⟨67, _⟩ => ⟨S_, .f32⟩
  | .hbm, ⟨68, _⟩ => ⟨S_, .f32⟩
  | .hbm, ⟨69, _⟩ => ⟨S320x256x512, .i1⟩
  | .hbm, ⟨70, _⟩ => ⟨S320x256x512, .f32⟩
  | .hbm, ⟨71, _⟩ => ⟨S320x256x512, .f32⟩
  | .hbm, ⟨72, _⟩ => ⟨S81920x512, .f32⟩
  | .hbm, ⟨73, _⟩ => ⟨S81920x512, .bf16⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_call1_v0 : Ref sig .tc := ⟨.hbm, 24, rfl⟩
abbrev main_v14 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call3_v0 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call4_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_call5_v0 : Ref sig .tc := ⟨.hbm, 45, rfl⟩
abbrev main_call5_v1 : Ref sig .tc := ⟨.hbm, 46, rfl⟩
abbrev main_v29 : Ref sig .tc := ⟨.hbm, 47, rfl⟩
abbrev main_call6_v0 : Ref sig .tc := ⟨.hbm, 48, rfl⟩
abbrev main_call6_v1 : Ref sig .tc := ⟨.hbm, 49, rfl⟩
abbrev main_call6_cst : Ref sig .tc := ⟨.hbm, 50, rfl⟩
abbrev main_call6_v2 : Ref sig .tc := ⟨.hbm, 51, rfl⟩
abbrev main_call6_v3 : Ref sig .tc := ⟨.hbm, 52, rfl⟩
abbrev main_call6_cst_0 : Ref sig .tc := ⟨.hbm, 53, rfl⟩
abbrev main_call6_v4 : Ref sig .tc := ⟨.hbm, 54, rfl⟩
abbrev main_call6_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_call7_v0 : Ref sig .tc := ⟨.hbm, 68, rfl⟩
abbrev main_call7_v1 : Ref sig .tc := ⟨.hbm, 69, rfl⟩
abbrev main_call7_v2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]
-- ==== Kernel2.lean ====
abbrev S8192x2048 : Shape := ⟨2, ![8192, 2048]⟩
abbrev S2x65544x128 : Shape := ⟨3, ![2, 65544, 128]⟩
abbrev S1x2048x512 : Shape := ⟨3, ![1, 2048, 512]⟩
abbrev S1x512x2048 : Shape := ⟨3, ![1, 512, 2048]⟩
abbrev S1x2048 : Shape := ⟨2, ![1, 2048]⟩
abbrev S2048x512 : Shape := ⟨2, ![2048, 512]⟩
abbrev S2048x1024 : Shape := ⟨2, ![2048, 1024]⟩
abbrev S512x2048 : Shape := ⟨2, ![512, 2048]⟩
abbrev S2048 : Shape := ⟨1, ![2048]⟩
abbrev S256x2048 : Shape := ⟨2, ![256, 2048]⟩
abbrev S1x2048x128 : Shape := ⟨3, ![1, 2048, 128]⟩
abbrev S256x1024 : Shape := ⟨2, ![256, 1024]⟩
abbrev S256x512 : Shape := ⟨2, ![256, 512]⟩
abbrev S2048x128 : Shape := ⟨2, ![2048, 128]⟩
abbrev S256x8x128 : Shape := ⟨3, ![256, 8, 128]⟩
abbrev S8x256x128 : Shape := ⟨3, ![8, 256, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2x65544x128, .f32⟩
  | .hbm, ⟨2, _⟩ => ⟨S1x2048x512, .f32⟩
  | .hbm, ⟨3, _⟩ => ⟨S1x2048x512, .f32⟩
  | .hbm, ⟨4, _⟩ => ⟨S1x512x2048, .f32⟩
  | .hbm, ⟨5, _⟩ => ⟨S1x2048, .f32⟩
  | .hbm, ⟨6, _⟩ => ⟨S1x2048, .f32⟩
  | .hbm, ⟨7, _⟩ => ⟨S2048x512, .f32⟩
  | .hbm, ⟨8, _⟩ => ⟨S2048x512, .f32⟩
  | .hbm, ⟨9, _⟩ => ⟨S2048x1024, .f32⟩
  | .hbm, ⟨10, _⟩ => ⟨S2048x1024, .bf16⟩
  | .hbm, ⟨11, _⟩ => ⟨S512x2048, .f32⟩
  | .hbm, ⟨12, _⟩ => ⟨S512x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x1024, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x2048 : Shape := ⟨2, ![8192, 2048]⟩
abbrev S2x65544x128 : Shape := ⟨3, ![2, 65544, 128]⟩
abbrev S1x2048x512 : Shape := ⟨3, ![1, 2048, 512]⟩
abbrev S1x512x2048 : Shape := ⟨3, ![1, 512, 2048]⟩
abbrev S1x2048 : Shape := ⟨2, ![1, 2048]⟩
abbrev S2x65536x128 : Shape := ⟨3, ![2, 65536, 128]⟩
abbrev S2x8192x1024 : Shape := ⟨3, ![2, 8192, 1024]⟩
abbrev S1x8192x1024 : Shape := ⟨3, ![1, 8192, 1024]⟩
abbrev S8192x1024 : Shape := ⟨2, ![8192, 1024]⟩
abbrev S2048x512 : Shape := ⟨2, ![2048, 512]⟩
abbrev S8192x512 : Shape := ⟨2, ![8192, 512]⟩
abbrev S_ : Shape := ⟨0, ![]⟩
abbrev S512x2048 : Shape := ⟨2, ![512, 2048]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x65544x128, .f32⟩
  | .hbm, ⟨2, _⟩ => ⟨S1x2048x512, .f32⟩
  | .hbm, ⟨3, _⟩ => ⟨S1x2048x512, .f32⟩
  | .hbm, ⟨4, _⟩ => ⟨S1x512x2048, .f32⟩
  | .hbm, ⟨5, _⟩ => ⟨S1x2048, .f32⟩
  | .hbm, ⟨6, _⟩ => ⟨S1x2048, .f32⟩
  | .hbm, ⟨7, _⟩ => ⟨S2x65536x128, .f32⟩
  | .hbm, ⟨8, _⟩ => ⟨S2x8192x1024, .f32⟩
  | .hbm, ⟨9, _⟩ => ⟨S1x8192x1024, .f32⟩
  | .hbm, ⟨10, _⟩ => ⟨S8192x1024, .f32⟩
  | .hbm, ⟨11, _⟩ => ⟨S1x8192x1024, .f32⟩
  | .hbm, ⟨12, _⟩ => ⟨S8192x1024, .f32⟩
  | .hbm, ⟨13, _⟩ => ⟨S8192x2048, .f32⟩
  | .hbm, ⟨14, _⟩ => ⟨S2048x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S2048x512, .f32⟩
  | .hbm, ⟨26, _⟩ => ⟨S8192x512, .f32⟩
  | .hbm, ⟨27, _⟩ => ⟨S8192x512, .f32⟩
  | .hbm, ⟨28, _⟩ => ⟨S512x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048x4096 : Shape := ⟨3, ![1, 2048, 4096]⟩
abbrev S8192x2048 : Shape := ⟨2, ![8192, 2048]⟩
abbrev S2048x4096 : Shape := ⟨2, ![2048, 4096]⟩
abbrev S8192x4096 : Shape := ⟨2, ![8192, 4096]⟩
abbrev S256x2048 : Shape := ⟨2, ![256, 2048]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S1x2048x4096, .f32⟩
  | .hbm, ⟨2, _⟩ => ⟨S8192x2048, .f32⟩
  | .hbm, ⟨3, _⟩ => ⟨S2048x4096, .f32⟩
  | .hbm, ⟨4, _⟩ => ⟨S2048x4096, .bf16⟩
  | .hbm, ⟨5, _⟩ => ⟨S8192x4096, .f32⟩
  | .local _ .vmem, ⟨0, _⟩ => ⟨S256x2048, .f32⟩
  | .local _ .vmem, ⟨1, _⟩ => ⟨S256x2048, .f32⟩
  | .local _ .vmem, ⟨2, _⟩ => ⟨S2048x4096, .bf16⟩
  | .local _ .vmem, ⟨3, _⟩ => ⟨S256x4096, .f32⟩
  | .local _ .vmem, ⟨4, _⟩ => ⟨S256x4096, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4x2048x2048 : Shape := ⟨3, ![4, 2048, 2048]⟩
abbrev S1x2048x4096 : Shape := ⟨3, ![1, 2048, 4096]⟩
abbrev S2048x4096 : Shape := ⟨2, ![2048, 4096]⟩
abbrev S4x2048x4096 : Shape := ⟨3, ![4, 2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048x4096, .f32⟩
  | .hbm, ⟨2, _⟩ => ⟨S2048x4096, .f32⟩
  | .hbm, ⟨3, _⟩ => ⟨S4x2048x4096, .f32⟩
  | .hbm, ⟨4, _⟩ => ⟨S8192x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x1024 : Shape := ⟨2, ![8192, 1024]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x2048 : Shape := ⟨2, ![1, 2048]⟩
abbrev S8192x2048 : Shape := ⟨2, ![8192, 2048]⟩
abbrev S1024x2048 : Shape := ⟨2, ![1024, 2048]⟩
abbrev S2048x2048 : Shape := ⟨2, ![2048, 2048]⟩
abbrev S1024 : Shape := ⟨1, ![1024]⟩
abbrev S2048 : Shape := ⟨1, ![2048]⟩
abbrev S65536x128 : Shape := ⟨2, ![65536, 128]⟩
abbrev S512x1024 : Shape := ⟨2, ![512, 1024]⟩
abbrev S512x2048 : Shape := ⟨2, ![512, 2048]⟩
abbrev S4096x128 : Shape := ⟨2, ![4096, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩
abbrev S256x8x128 : Shape := ⟨3, ![256, 8, 128]⟩
abbrev S2048x128 : Shape := ⟨2, ![2048, 128]⟩

abbrev nBuf : Space → Nat
  | .hbm => 24
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2048x2048, .f32⟩
  | .hbm, ⟨3, _⟩ => ⟨S1x1024x2048, .f32⟩
  | .hbm, ⟨4, _⟩ => ⟨S1x2048x2048, .f32⟩
  | .hbm, ⟨5, _⟩ => ⟨S1x1024, .f32⟩
  | .hbm, ⟨6, _⟩ => ⟨S1x1024, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S2048x2048, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S2048x2048, .bf16⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S4096x128, .i32⟩
  | .local _ .vmem, ⟨15, _⟩ => ⟨S4096x128, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel4Ideal.lean ====
abbrev S8192x1024 : Shape := ⟨2, ![8192, 1024]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x2048 : Shape := ⟨2, ![1, 2048]⟩
abbrev S8192x2048 : Shape := ⟨2, ![8192, 2048]⟩
abbrev S1024x2048 : Shape := ⟨2, ![1024, 2048]⟩
abbrev S2048x2048 : Shape := ⟨2, ![2048, 2048]⟩
abbrev S1024 : Shape := ⟨1, ![1024]⟩
abbrev S2048 : Shape := ⟨1, ![2048]⟩
abbrev S65536x2x128 : Shape := ⟨3, ![65536, 2, 128]⟩
abbrev S65536x1x128 : Shape := ⟨3, ![65536, 1, 128]⟩
abbrev S65536x128 : Shape := ⟨2, ![65536, 128]⟩
abbrev S512x1024 : Shape := ⟨2, ![512, 1024]⟩
abbrev S512x2048 : Shape := ⟨2, ![512, 2048]⟩
abbrev S4096x128 : Shape := ⟨2, ![4096, 128]⟩
abbrev S4096x2x128 : Shape := ⟨3, ![4096, 2, 128]⟩
abbrev S4096x1x128 : Shape := ⟨3, ![4096, 1, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩
abbrev S256x8x128 : Shape := ⟨3, ![256, 8, 128]⟩
abbrev S2048x128 : Shape := ⟨2, ![2048, 128]⟩
abbrev S2048x2x128 : Shape := ⟨3, ![2048, 2, 128]⟩
abbrev S2048x1x128 : Shape := ⟨3, ![2048, 1, 128]⟩

abbrev nBuf : Space → Nat
  | .hbm => 24
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2048x2048, .f32⟩
  | .hbm, ⟨3, _⟩ => ⟨S1x1024x2048, .f32⟩
  | .hbm, ⟨4, _⟩ => ⟨S1x2048x2048, .f32⟩
  | .hbm, ⟨5, _⟩ => ⟨S1x1024, .f32⟩
  | .hbm, ⟨6, _⟩ => ⟨S1x1024, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S1024x2048, .f32⟩
  | .hbm, ⟨11, _⟩ => ⟨S1024x2048, .bf16⟩
  | .hbm, ⟨12, _⟩ => ⟨S2048x2048, .f32⟩
  | .hbm, ⟨13, _⟩ => ⟨S2048x2048, .bf16⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S8192x2048, .f32⟩
  | .hbm, ⟨23, _⟩ => ⟨S65536x2x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S2048x2048, .bf16⟩
  | .local _ .vmem, ⟨8, _⟩ => ⟨S1x1024, .f32⟩
  | .local _ .vmem, ⟨9, _⟩ => ⟨S1x1024, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S4096x2x128, .bf16⟩
  | .local _ .vmem, ⟨15, _⟩ => ⟨S4096x2x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8192x1024 : Shape := ⟨2, ![8192, 1024]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x2048 : Shape := ⟨2, ![1, 2048]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩
abbrev S2048x2048 : Shape := ⟨2, ![2048, 2048]⟩
abbrev S2048 : Shape := ⟨1, ![2048]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x2048x2048, .f32⟩
  | .hbm, ⟨3, _⟩ => ⟨S1x1024x2048, .f32⟩
  | .hbm, ⟨4, _⟩ => ⟨S1x2048x2048, .f32⟩
  | .hbm, ⟨5, _⟩ => ⟨S1x1024, .f32⟩
  | .hbm, ⟨6, _⟩ => ⟨S1x1024, .f32⟩
  | .hbm, ⟨7, _⟩ => ⟨S1x2048, .f32⟩
  | .hbm, ⟨8, _⟩ => ⟨S1x2048, .f32⟩
  | .hbm, ⟨9, _⟩ => ⟨S1024x2048, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x2048, .f32⟩
  | .hbm, ⟨57, _⟩ => ⟨S_, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S2048x2048, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x2048, .f32⟩
  | .hbm, ⟨86, _⟩ => ⟨S8192x2048, .f32⟩
  | .hbm, ⟨87, _⟩ => ⟨S2048, .f32⟩
  | .hbm, ⟨88, _⟩ => ⟨S1x2048, .f32⟩
  | .hbm, ⟨89, _⟩ => ⟨S8192x2048, .f32⟩
  | .hbm, ⟨90, _⟩ => ⟨S8192x2048, .f32⟩
  | .hbm, ⟨91, _⟩ => ⟨S2048, .f32⟩
  | .hbm, ⟨92, _⟩ => ⟨S1x2048, .f32⟩
  | .hbm, ⟨93, _⟩ => ⟨S8192x2048, .f32⟩
  | .hbm, ⟨94, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Proof.Program.lean ====
module

public import proofs.«01_k».proof.Proof.Gen.KernelIdeal

/-! The kernel's body written with its repetitions as functions: one row of a gather, the whole gather with the
    unpacking of its words, the two copies of an expert's weights, and one block of 256 rows. -/

@[expose] public section

namespace Cert.MoeUp

open Cert.KernelIdeal Cert.KernelIdeal.Gen
open Idealize.ShloMosaic Idealize.SL.Sem

variable {F : FTy → Type} [FloatOps F]

/-- Programs of this kernel. -/
abbrev Pr (F : FTy → Type) [FloatOps F] (α : Type) := Prog (TpuEff nD τ sig (Elt F) Λ₀ .tc) α

/-- The buffers the body works on; the activations and row weights come as the current and the next pair. -/
structure Mem where
  be : Memref sig .tc .smem S320 .i32
  code : Memref sig .tc .smem S81920 .i32
  nb : Memref sig .tc .smem S193 .i32
  hp : Memref sig .tc .vmem S65536x128 .i32
  wt : Memref sig .tc .vmem S8192x128 .f32
  wg : Memref sig .tc .hbm S64x2048x512 .f32
  wu : Memref sig .tc .hbm S64x2048x512 .f32
  out : Memref sig .tc .vmem S512x512 .bf16
  hout : out.IsWhole
  xg : Memref sig .tc .vmem S2048x128 .i32
  xc : Memref sig .tc .vmem S256x2048 .bf16
  hxc : xc.IsWhole
  xn : Memref sig .tc .vmem S256x2048 .bf16
  hxn : xn.IsWhole
  wc : Memref sig .tc .vmem S256x128 .f32
  wn : Memref sig .tc .vmem S256x128 .f32
  gu : Memref sig .tc .vmem S2048x1024 .bf16
  hgu : gu.IsWhole
  st : Memref sig .tc .vmem S2x2x2048x512 .f32
  sem : DmaSems sig S2x2

/-- The same buffers with the current and the next pair exchanged. -/
def Mem.swap (M : Mem) : Mem :=
  { M with xc := M.xn, hxc := M.hxn, xn := M.xc, hxn := M.hxc, wc := M.wn, wn := M.wc }

/-! ## A row of the gather -/

/-- The token a code names. -/
def tok (v : BitVec 32) : BitVec 32 := Scalar.andi (Scalar.shrsi v 3#32) 8191#32
/-- Where the token's packed activations lie. -/
def offHp (v : BitVec 32) : Fin 2 → ℕ := ![(Scalar.indexCast (Scalar.muli (tok v) 8#32)).toNat, 0]
/-- Where the token's routing weights lie. -/
def offWt (v : BitVec 32) : Fin 2 → ℕ := ![(Scalar.indexCast (tok v)).toNat, 0]

/-- What the body assumes of a code it has read. -/
def rowChk (c : BitVec 1) (v : BitVec 32) : Prop :=
  (∀ (_ : c = 1#1), 8 ∣ (Scalar.muli (tok v) 8#32).toNat) ∧
  (∀ (_ : c = 1#1), ∀ a, (offHp v) a + S8x128.size a ≤ S65536x128.size a) ∧
  (∀ (_ : c = 1#1), ∀ a, (offWt v) a + S1x128.size a ≤ S8192x128.size a)

instance rowChk.dec (c : BitVec 1) (v : BitVec 32) : Decidable (rowChk c v) :=
  decidable_of_iff' _ (Iff.of_eq (rowChk.eq_1 c v))

theorem inb_xg (r : ℕ) (hr : r < 256) : ∀ a, (![8 * r, 0] : Fin 2 → ℕ) a + S8x128.size a ≤ S2048x128.size a := by
  intro a; fin_cases a <;> simp [S8x128, S2048x128] <;> omega

theorem inb_wr (r : ℕ) (hr : r < 256) : ∀ a, (![r, 0] : Fin 2 → ℕ) a + S1x128.size a ≤ S256x128.size a := by
  intro a; fin_cases a <;> simp [S1x128, S256x128]; omega

/-- One row: the token's eight rows of packed words and its row of weights are copied. -/
def row (M : Mem) (wd : Memref sig .tc .vmem S256x128 .f32) (c : BitVec 1) (hc : c = 1#1)
    (off : Fin 1 → ℕ) (hoff : ∀ a, off a + S1.size a ≤ S81920.size a) (r : ℕ) (hr : r < 256) : Pr F PUnit := do
  let v : Elt F .i32 ← smemLoad M.code (Rect.unit (s := S81920) off S1.size hoff) numel1_S1 rfl
  have hw : rowChk c v := (← Prog.lift (TpuEff.assume (rowChk c v) (rowChk.dec c v))).down
  let x : Vec F S8x128 .i32 ← Prog.lift (.load M.hp (Rect.unit (s := S65536x128) (offHp v) S8x128.size (hw.2.1 hc)).toLoadRect (View.loadsAt_vmem h_S8x128))
  let _d : Vec F S8x128 .i32 ← Prog.lift (.load M.xg (Rect.unit (s := S2048x128) ![8 * r, 0] S8x128.size (inb_xg r hr)).toLoadRect (View.loadsAt_vmem h_S8x128))
  Prog.lift (.store M.xg (Rect.unit (s := S2048x128) ![8 * r, 0] S8x128.size (inb_xg r hr)) (shapeCast S8x128 x shapeCasts_S8x128_S8x128) Finset.univ (View.stores_vmem_bits_univ h_S8x128 rfl) (.inl rfl))
  let w : Vec F S1x128 .f32 ← Prog.lift (.load M.wt (Rect.unit (s := S8192x128) (offWt v) S1x128.size (hw.2.2 hc)).toLoadRect (View.loadsAt_vmem h_S1x128))
  let _d : Vec F S1x128 .f32 ← Prog.lift (.load wd (Rect.unit (s := S256x128) ![r, 0] S1x128.size (inb_wr r hr)).toLoadRect (View.loadsAt_vmem h_S1x128))
  Prog.lift (.store wd (Rect.unit (s := S256x128) ![r, 0] S1x128.size (inb_wr r hr)) (shapeCast S1x128 w shapeCasts_S1x128_S1x128) Finset.univ (View.stores_vmem_bits_univ h_S1x128 rfl) (.inl rfl))

/-- The last `n` rows of a gather. -/
def rows (M : Mem) (wd : Memref sig .tc .vmem S256x128 .f32) (c : BitVec 1) (hc : c = 1#1)
    (off : ℕ → Fin 1 → ℕ) (hoff : ∀ r, r < 256 → ∀ a, off r a + S1.size a ≤ S81920.size a) : ℕ → Pr F PUnit
  | 0 => pure ⟨⟩
  | n + 1 => do
    row M wd c hc (off (255 - n)) (hoff (255 - n) (by omega)) (255 - n) (by omega)
    rows M wd c hc off hoff n

/-! ## The unpacking of the gathered words -/

theorem slices_row (s : Fin 8) : S8x256x128.Slices ![s.val, 0, 0] S1x256x128 := by revert s; decide
theorem inb_lo (s : Fin 8) : ∀ a, (![0, 128 * s.val] : Fin 2 → ℕ) a + S256x128.size a ≤ S256x2048.size a := by revert s; decide
theorem inb_hi (s : Fin 8) : ∀ a, (![0, 1024 + 128 * s.val] : Fin 2 → ℕ) a + S256x128.size a ≤ S256x2048.size a := by revert s; decide
theorem packed_lo (s : Fin 8) : (Rect.unit (s := S256x2048) ![0, 128 * s.val] S256x128.size (inb_lo s)).PackedRows (EltTy.packing .bf16) := by
  revert s; decide
theorem packed_hi (s : Fin 8) : (Rect.unit (s := S256x2048) ![0, 1024 + 128 * s.val] S256x128.size (inb_hi s)).PackedRows (EltTy.packing .bf16) := by
  revert s; decide

/-- One of the eight groups of columns: the low halves go left, the high halves right. -/
def chunk (xd : Memref sig .tc .vmem S256x2048 .bf16) (hxd : xd.IsWhole) (t : IVec S8x256x128 32) (s : Fin 8) : Pr F PUnit := do
  have w : IVec S256x128 32 := shapeCast S256x128 (extractStridedSlice S1x256x128 ![s.val, 0, 0] t (slices_row s)) shapeCasts_S1x256x128_S256x128
  let _d : Vec F S256x128 .bf16 ← Prog.lift (.load xd (Rect.unit (s := S256x2048) ![0, 128 * s.val] S256x128.size (inb_lo s)).toLoadRect (View.loadsAt_vmem h_S256x128))
  Prog.lift (.store xd (Rect.unit (s := S256x2048) ![0, 128 * s.val] S256x128.size (inb_lo s))
    (shapeCast S256x128 (truncf (F := F) .bf16 (unpackElementwise 0 w) bitsLt_bf16_f32) shapeCasts_S256x128_S256x128) Finset.univ (View.stores_vmem h_S256x128 (hxd.storeExact_slice rfl _ (packed_lo s)) (fun _ => rfl)) (.inl rfl))
  let _d : Vec F S256x128 .bf16 ← Prog.lift (.load xd (Rect.unit (s := S256x2048) ![0, 1024 + 128 * s.val] S256x128.size (inb_hi s)).toLoadRect (View.loadsAt_vmem h_S256x128))
  Prog.lift (.store xd (Rect.unit (s := S256x2048) ![0, 1024 + 128 * s.val] S256x128.size (inb_hi s))
    (shapeCast S256x128 (truncf (F := F) .bf16 (unpackElementwise 1 w) bitsLt_bf16_f32) shapeCasts_S256x128_S256x128) Finset.univ (View.stores_vmem h_S256x128 (hxd.storeExact_slice rfl _ (packed_hi s)) (fun _ => rfl)) (.inl rfl))

/-- The last `n` groups of columns. -/
def chunks (xd : Memref sig .tc .vmem S256x2048 .bf16) (hxd : xd.IsWhole) (t : IVec S8x256x128 32) : ℕ → Pr F PUnit
  | 0 => pure ⟨⟩
  | n + 1 => do
    chunk xd hxd t ⟨7 - n, by omega⟩
    chunks xd hxd t n

/-- A gather of 256 rows into `xd` and `wd`. -/
def gather (M : Mem) (xd : Memref sig .tc .vmem S256x2048 .bf16) (hxd : xd.IsWhole) (wd : Memref sig .tc .vmem S256x128 .f32)
    (c : BitVec 1) (hc : c = 1#1)
    (off : ℕ → Fin 1 → ℕ) (hoff : ∀ r, r < 256 → ∀ a, off r a + S1.size a ≤ S81920.size a) : Pr F PUnit := do
  rows M wd c hc off hoff 256
  let g : Vec F S2048x128 .i32 ← Prog.lift (.load M.xg (Rect.unit (s := S2048x128) ![0, 0] S2048x128.size inb_S2048x128_S2048x128_0_0).toLoadRect (View.loadsAt_vmem h_S2048x128))
  have t : IVec S8x256x128 32 := transpose S8x256x128 [1, 0, 2] (shapeCast S256x8x128 g shapeCasts_S2048x128_S256x8x128) transposes_S256x8x128_p1_0_2_S8x256x128
  chunks xd hxd t 8

theorem off_first (r : ℕ) (hr : r < 256) : ∀ a, (![r] : Fin 1 → ℕ) a + S1.size a ≤ S81920.size a := by
  intro a; fin_cases a; simp [S1, S81920]; omega

/-- The first gather, block 0's. -/
def gatherFirst (M : Mem) (c : BitVec 1) (hc : c = 1#1) : Pr F PUnit :=
  gather M M.xc M.hxc M.wc c hc (fun r => ![r]) off_first

/-! ## The copies of an expert's weights -/

/-- A semaphore of the copies: by slot and by which of the two weights. -/
def semOff (s : BitVec 32) (k : ℕ) : Fin 2 → ℕ := ![s.toNat, k]
/-- A plane of the staging buffer. -/
def stOff (s : BitVec 32) (k : ℕ) : Fin 4 → ℕ := ![s.toNat, k, 0, 0]
/-- An expert's weights. -/
def wOff (e : BitVec 32) : Fin 3 → ℕ := ![e.toNat, 0, 0]

def semOf (M : Mem) (off : Fin 2 → ℕ) (h : ∀ a, off a + S1x1.size a ≤ S2x2.size a) : DmaSems sig S_ :=
  (M.sem.slice (Rect.unit (s := S2x2) off S1x1.size h)).squeeze S_ squeezes_S1x1_S_

def stOf (M : Mem) (off : Fin 4 → ℕ) (h : ∀ a, off a + S1x1x2048x512.size a ≤ S2x2x2048x512.size a) : Memref sig .tc .vmem S2048x512 .f32 :=
  (M.st.slice (Rect.unit (s := S2x2x2048x512) off S1x1x2048x512.size h) (fun _ => rfl)).squeeze S2048x512 squeezes_S1x1x2048x512_S2048x512

def wOf (w : Memref sig .tc .hbm S64x2048x512 .f32) (off : Fin 3 → ℕ) (h : ∀ a, off a + S1x2048x512.size a ≤ S64x2048x512.size a) : Memref sig .tc .hbm S2048x512 .f32 :=
  (w.slice (Rect.unit (s := S64x2048x512) off S1x2048x512.size h) (fun _ => rfl)).squeeze S2048x512 squeezes_S1x2048x512_S2048x512

/-- What the two copies into a slot need of the slot and the expert. -/
structure CopyOk (s e : BitVec 32) : Prop where
  sem0 : ∀ a, semOff s 0 a + S1x1.size a ≤ S2x2.size a
  sem1 : ∀ a, semOff s 1 a + S1x1.size a ≤ S2x2.size a
  st0 : ∀ a, stOff s 0 a + S1x1x2048x512.size a ≤ S2x2x2048x512.size a
  st1 : ∀ a, stOff s 1 a + S1x1x2048x512.size a ≤ S2x2x2048x512.size a
  w : ∀ a, wOff e a + S1x2048x512.size a ≤ S64x2048x512.size a

/-- Both copies of expert `e`'s weights into slot `s` are started. -/
def copyStart (M : Mem) (s e : BitVec 32) (h : CopyOk s e) : Pr F PUnit := do
  Prog.lift (.enqueueDma (wOf M.wg (wOff e) h.w) (.here (stOf M (stOff s 0) h.st0)) (.dma (semOf M (semOff s 0) h.sem0).sem) ((View.wordExact_bits rfl).reshape _ _) ((View.wordExact_bits rfl).reshape _ _) ⟨Or.inl rfl, trivial⟩)
  Prog.lift (.enqueueDma (wOf M.wu (wOff e) h.w) (.here (stOf M (stOff s 1) h.st1)) (.dma (semOf M (semOff s 1) h.sem1).sem) ((View.wordExact_bits rfl).reshape _ _) ((View.wordExact_bits rfl).reshape _ _) ⟨Or.inl rfl, trivial⟩)

/-- Both are waited for. -/
def copyWait (M : Mem) (s e : BitVec 32) (h : CopyOk s e) : Pr F PUnit := do
  Prog.lift (.waitDma2 (semOf M (semOff s 0) h.sem0).sem (wOf M.wg (wOff e) h.w) (stOf M (stOff s 0) h.st0) ((View.wordExact_bits rfl).reshape _ _) ((View.wordExact_bits rfl).reshape _ _))
  Prog.lift (.waitDma2 (semOf M (semOff s 1) h.sem1).sem (wOf M.wu (wOff e) h.w) (stOf M (stOff s 1) h.st1) ((View.wordExact_bits rfl).reshape _ _) ((View.wordExact_bits rfl).reshape _ _))

/-- The staged weights of slot `s`, rounded, side by side. -/
def castWeights (M : Mem) (s e : BitVec 32) (h : CopyOk s e) : Pr F PUnit := do
  let g : Vec F S1x1x2048x512 .f32 ← Prog.lift (.load M.st (Rect.unit (s := S2x2x2048x512) (stOff s 0) S1x1x2048x512.size h.st0).toLoadRect (View.loadsAt_vmem h_S1x1x2048x512))
  let _d : Vec F S2048x512 .bf16 ← Prog.lift (.load M.gu (Rect.unit (s := S2048x1024) ![0, 0] S2048x512.size inb_S2048x1024_S2048x512_0_0).toLoadRect (View.loadsAt_vmem h_S2048x512))
  Prog.lift (.store M.gu (Rect.unit (s := S2048x1024) ![0, 0] S2048x512.size inb_S2048x1024_S2048x512_0_0)
    (shapeCast S2048x512 (truncf (F := F) .bf16 (shapeCast S2048x512 g shapeCasts_S1x1x2048x512_S2048x512) bitsLt_bf16_f32) shapeCasts_S2048x512_S2048x512) Finset.univ (View.stores_vmem h_S2048x512 (M.hgu.storeExact_slice rfl _ packedbf16_S2048x1024_S2048x512_0_0) (fun _ => rfl)) (.inl rfl))
  let u : Vec F S1x1x2048x512 .f32 ← Prog.lift (.load M.st (Rect.unit (s := S2x2x2048x512) (stOff s 1) S1x1x2048x512.size h.st1).toLoadRect (View.loadsAt_vmem h_S1x1x2048x512))
  let _d : Vec F S2048x512 .bf16 ← Prog.lift (.load M.gu (Rect.unit (s := S2048x1024) ![0, 512] S2048x512.size inb_S2048x1024_S2048x512_0_512).toLoadRect (View.loadsAt_vmem h_S2048x512))
  Prog.lift (.store M.gu (Rect.unit (s := S2048x1024) ![0, 512] S2048x512.size inb_S2048x1024_S2048x512_0_512)
    (shapeCast S2048x512 (truncf (F := F) .bf16 (shapeCast S2048x512 u shapeCasts_S1x1x2048x512_S2048x512) bitsLt_bf16_f32) shapeCasts_S2048x512_S2048x512) Finset.univ (View.stores_vmem h_S2048x512 (M.hgu.storeExact_slice rfl _ packedbf16_S2048x1024_S2048x512_0_512) (fun _ => rfl)) (.inl rfl))

/-! ## A block -/

/-- A block's place in the table of experts. -/
def offBe (blk : BitVec 32) : Fin 1 → ℕ := ![(Scalar.indexCast (Scalar.minsi blk 319#32)).toNat]
/-- The place of the block before it. -/
def offPrev (blk : BitVec 32) : Fin 1 → ℕ := ![(Scalar.indexCast (Scalar.maxsi (Scalar.subi (Scalar.minsi blk 319#32) 1#32) 0#32)).toNat]
/-- An entry of the table of counts, ends, slots and successors. -/
def offNb (e k : BitVec 32) : Fin 1 → ℕ := ![(Scalar.indexCast (Scalar.addi k e)).toNat]
/-- The codes of the block after it. -/
def offCode (blk : BitVec 32) (r : ℕ) : Fin 1 → ℕ :=
  ![(Scalar.indexCast (Scalar.addi (Scalar.muli (Scalar.minsi (Scalar.addi blk 1#32) 319#32) 256#32) (BitVec.ofNat 32 r))).toNat]

/-- The block is one of the 320. -/
def IsBlk (blk : BitVec 32) : Prop := ∃ b : Fin 320, blk = BitVec.ofNat 32 b.val

theorem offBe_inb {blk : BitVec 32} (hb : IsBlk blk) : ∀ a, offBe blk a + S1.size a ≤ S320.size a := by
  obtain ⟨b, rfl⟩ := hb; revert b; decide +kernel
theorem offPrev_inb {blk : BitVec 32} (hb : IsBlk blk) : ∀ a, offPrev blk a + S1.size a ≤ S320.size a := by
  obtain ⟨b, rfl⟩ := hb; revert b; decide +kernel
theorem next_eq : ∀ b : Fin 320, Scalar.minsi (Scalar.addi (BitVec.ofNat 32 b.val) 1#32) 319#32 = BitVec.ofNat 32 (min (b.val + 1) 319) := by
  decide +kernel
theorem offCode_eq (b : Fin 320) (r : ℕ) (hr : r < 256) :
    offCode (BitVec.ofNat 32 b.val) r = ![min (b.val + 1) 319 * 256 + r] := by
  have h : (Scalar.addi (Scalar.muli (BitVec.ofNat 32 (min (b.val + 1) 319)) 256#32) (BitVec.ofNat 32 r)).toNat
      = min (b.val + 1) 319 * 256 + r := by
    show (BitVec.ofNat 32 (min (b.val + 1) 319) * 256#32 + BitVec.ofNat 32 r).toNat = _
    simp only [BitVec.toNat_add, BitVec.toNat_mul, BitVec.toNat_ofNat]
    omega
  unfold offCode
  rw [next_eq]
  exact congrArg (fun n => (![n] : Fin 1 → ℕ)) h
theorem offCode_inb {blk : BitVec 32} (hb : IsBlk blk) (r : ℕ) (hr : r < 256) : ∀ a, offCode blk r a + S1.size a ≤ S81920.size a := by
  obtain ⟨b, rfl⟩ := hb
  rw [offCode_eq b r hr]
  intro a; fin_cases a; simp [S1, S81920]; omega

/-- The block is in use. -/
def cUse (blk n : BitVec 32) : BitVec 1 := Scalar.cmpi .ne (Scalar.extui (Scalar.cmpi .slt blk n) : BitVec 32) 0#32
/-- It is not. -/
def cIdle (blk n : BitVec 32) : BitVec 1 := Scalar.cmpi .ne (Scalar.extui (Scalar.xori (Scalar.cmpi .slt blk n) 1#1) : BitVec 32) 0#32
/-- It is the first, and in use. -/
def cFirst (blk n : BitVec 32) : BitVec 1 :=
  Scalar.cmpi .ne (Scalar.extui (Scalar.andi (Scalar.cmpi .slt blk n) (Scalar.cmpi .eq blk 0#32)) : BitVec 32) 0#32
/-- It is in use and of another expert than the block before. -/
def cNew (blk n e1 e0 : BitVec 32) : BitVec 1 :=
  Scalar.cmpi .ne (Scalar.extui (Scalar.andi (Scalar.cmpi .slt blk n)
    (Scalar.ori (Scalar.cmpi .eq (Scalar.minsi blk 319#32) 0#32) (Scalar.cmpi .ne e1 e0))) : BitVec 32) 0#32
/-- Another expert follows. -/
def cMore (x : BitVec 32) : BitVec 1 := Scalar.cmpi .ne (Scalar.extui (Scalar.cmpi .sge x 0#32) : BitVec 32) 0#32

/-- What is assumed of a block's expert. -/
def chkE (e : BitVec 32) : Prop := (∀ (r : Fin 2), ∀ a, (offNb e (BitVec.ofNat 32 (65 + 64 * r.val))) a + S1.size a ≤ S193.size a)
instance chkE.dec (e : BitVec 32) : Decidable (chkE e) := decidable_of_iff' _ (Iff.of_eq (chkE.eq_1 e))

/-- What is assumed before the first block's copies. -/
def chkS (blk e s n : BitVec 32) : Prop :=
  (∀ (_ : cFirst blk n = 1#1), ∀ a, (semOff s 0) a + S1x1.size a ≤ S2x2.size a) ∧
  (∀ (_ : cFirst blk n = 1#1), ∀ a, (stOff s 0) a + S1x1x2048x512.size a ≤ S2x2x2048x512.size a) ∧
  (∀ (_ : cFirst blk n = 1#1), ∀ a, (wOff e) a + S1x2048x512.size a ≤ S64x2048x512.size a) ∧
  (∀ (_ : cFirst blk n = 1#1), ∀ a, (semOff s 1) a + S1x1.size a ≤ S2x2.size a) ∧
  (∀ (_ : cFirst blk n = 1#1), ∀ a, (stOff s 1) a + S1x1x2048x512.size a ≤ S2x2x2048x512.size a) ∧
  (∀ (_ : cUse blk n = 1#1), ∀ a, (offNb e 1#32) a + S1.size a ≤ S193.size a)
instance chkS.dec (blk e s n : BitVec 32) : Decidable (chkS blk e s n) := decidable_of_iff' _ (Iff.of_eq (chkS.eq_1 blk e s n))

/-- What is assumed before a new expert's weights are taken. -/
def chkN (blk e s x n e1 e0 : BitVec 32) : Prop :=
  (∀ (_ : cNew blk n e1 e0 = 1#1), ∀ a, (semOff s 0) a + S1x1.size a ≤ S2x2.size a) ∧
  (∀ (_ : cNew blk n e1 e0 = 1#1), ∀ a, (stOff s 0) a + S1x1x2048x512.size a ≤ S2x2x2048x512.size a) ∧
  (∀ (_ : cNew blk n e1 e0 = 1#1), ∀ a, (wOff e) a + S1x2048x512.size a ≤ S64x2048x512.size a) ∧
  (∀ (_ : cNew blk n e1 e0 = 1#1), ∀ a, (semOff s 1) a + S1x1.size a ≤ S2x2.size a) ∧
  (∀ (_ : cNew blk n e1 e0 = 1#1), ∀ a, (stOff s 1) a + S1x1x2048x512.size a ≤ S2x2x2048x512.size a) ∧
  (∀ (_ : cNew blk n e1 e0 = 1#1), ∀ (_ : cMore x = 1#1), ∀ a, (semOff (Scalar.subi 1#32 s) 0) a + S1x1.size a ≤ S2x2.size a) ∧
  (∀ (_ : cNew blk n e1 e0 = 1#1), ∀ (_ : cMore x = 1#1), ∀ a, (stOff (Scalar.subi 1#32 s) 0) a + S1x1x2048x512.size a ≤ S2x2x2048x512.size a) ∧
  (∀ (_ : cNew blk n e1 e0 = 1#1), ∀ (_ : cMore x = 1#1), ∀ a, (wOff x) a + S1x2048x512.size a ≤ S64x2048x512.size a) ∧
  (∀ (_ : cNew blk n e1 e0 = 1#1), ∀ (_ : cMore x = 1#1), ∀ a, (semOff (Scalar.subi 1#32 s) 1) a + S1x1.size a ≤ S2x2.size a) ∧
  (∀ (_ : cNew blk n e1 e0 = 1#1), ∀ (_ : cMore x = 1#1), ∀ a, (stOff (Scalar.subi 1#32 s) 1) a + S1x1x2048x512.size a ≤ S2x2x2048x512.size a) ∧
  (∀ (_ : cNew blk n e1 e0 = 1#1), ∀ a, (stOff s 0) a + S1x1x2048x512.size a ≤ S2x2x2048x512.size a) ∧
  (∀ (_ : cNew blk n e1 e0 = 1#1), ∀ a, (stOff s 1) a + S1x1x2048x512.size a ≤ S2x2x2048x512.size a)
instance chkN.dec (blk e s x n e1 e0 : BitVec 32) : Decidable (chkN blk e s x n e1 e0) :=
  decidable_of_iff' _ (Iff.of_eq (chkN.eq_1 blk e s x n e1 e0))

theorem chkS.ok {blk e s n : BitVec 32} (h : chkS blk e s n) (hc : cFirst blk n = 1#1) : CopyOk s e :=
  ⟨h.1 hc, h.2.2.2.1 hc, h.2.1 hc, h.2.2.2.2.1 hc, h.2.2.1 hc⟩
theorem chkN.ok {blk e s x n e1 e0 : BitVec 32} (h : chkN blk e s x n e1 e0) (hc : cNew blk n e1 e0 = 1#1) : CopyOk s e :=
  ⟨h.1 hc, h.2.2.2.1 hc, h.2.1 hc, h.2.2.2.2.1 hc, h.2.2.1 hc⟩
theorem chkN.ok' {blk e s x n e1 e0 : BitVec 32} (h : chkN blk e s x n e1 e0) (hc : cNew blk n e1 e0 = 1#1) (hm : cMore x = 1#1) :
    CopyOk (Scalar.subi 1#32 s) x :=
  ⟨h.2.2.2.2.2.1 hc hm, h.2.2.2.2.2.2.2.2.1 hc hm, h.2.2.2.2.2.2.1 hc hm, h.2.2.2.2.2.2.2.2.2.1 hc hm, h.2.2.2.2.2.2.2.1 hc hm⟩

/-- The lanes of a row of weights but the expert's are blanked, the rest summed. -/
def laneWeight (e : BitVec 32) (w : Vec F S256x128 .f32) : FVec F S256x1 .f32 :=
  shapeCast S256x1 (multiReduction .add [1] S256
    (select (cmpi .eq (iota .tc S256x128 32 [1] iota_S256x128_d1_w32) (broadcast S256x128 e)) w
      (broadcast S256x128 (Scalar.ofBits .f32 0x00000000#32 : F .f32)) : Vec F S256x128 .f32)
    0x00000000#32 reduces_S256x128_S256 (.inl rfl) rfl) shapeCasts_S256_S256x1

/-- Which rows of the block lie before the expert's end. -/
def rowMask (blk fin : BitVec 32) : IVec S256x1 1 :=
  cmpi .slt (addi (broadcast S256x1 (Scalar.muli blk 256#32)) (iota .tc S256x1 32 [0] iota_S256x1_d0_w32)) (broadcast S256x1 fin)

/-- The block's rows: both products at once, the gate, and the routing weight. -/
def blockVal (x : Vec F S256x2048 .bf16) (w : Vec F S2048x1024 .bf16) (lw : FVec F S256x1 .f32) (m : IVec S256x1 1) : FVec F S256x512 .bf16 :=
  have p : FVec F S256x1024 .f32 := matmul dot_S256x2048_S2048x1024_S256x1024_1_0_0_1_n_n none x w (constant S256x1024 .f32 0x00000000#32)
  have g : FVec F S256x512 .f32 := extractStridedSlice S256x512 ![0, 0] p slices_S256x1024_o0_0_S256x512
  have u : FVec F S256x512 .f32 := extractStridedSlice S256x512 ![0, 512] p slices_S256x1024_o0_512_S256x512
  truncf .bf16 (mulf (mulf (mulf g (logistic g)) u)
    (broadcastTo S256x512 (select m lw (broadcast S256x1 (Scalar.ofBits .f32 0x00000000#32 : F .f32)) : FVec F S256x1 .f32) broadcasts_S256x1_S256x512)) bitsLt_bf16_f32

/-- A half of the output tile. -/
structure OutOk (o : ℕ) : Prop where
  inb : ∀ a, (![o, 0] : Fin 2 → ℕ) a + S256x512.size a ≤ S512x512.size a
  packed : (Rect.unit (s := S512x512) ![o, 0] S256x512.size inb).PackedRows (EltTy.packing .bf16)

theorem outOk0 : OutOk 0 := ⟨inb_S512x512_S256x512_0_0, packedbf16_S512x512_S256x512_0_0⟩
theorem outOk256 : OutOk 256 := ⟨inb_S512x512_S256x512_256_0, packedbf16_S512x512_S256x512_256_0⟩

/-- A half of the output tile is written. -/
def putOut (M : Mem) (o : ℕ) (ho : OutOk o) (v : FVec F S256x512 .bf16) : Pr F PUnit := do
  let _d : Vec F S256x512 .bf16 ← Prog.lift (.load M.out (Rect.unit (s := S512x512) ![o, 0] S256x512.size ho.inb).toLoadRect (View.loadsAt_vmem h_S256x512))
  Prog.lift (.store M.out (Rect.unit (s := S512x512) ![o, 0] S256x512.size ho.inb) v Finset.univ (View.stores_vmem h_S256x512 (M.hout.storeExact_slice rfl _ ho.packed) (fun _ => rfl)) (.inl rfl))

/-- and with zeros. -/
def putZero (M : Mem) (o : ℕ) (ho : OutOk o) : Pr F PUnit :=
  putOut M o ho (broadcast S256x512 (Scalar.ofBits .bf16 0x0000#16 : F .bf16))

/-- The next block is gathered and this one, whose number is once more `blk'`, computed. -/
def useBlock (M : Mem) (blk : BitVec 32) (hb : IsBlk blk) (blk' e : BitVec 32) (n : BitVec 32) (hc : cUse blk n = 1#1)
    (hend : ∀ a, (offNb e 1#32) a + S1.size a ≤ S193.size a) (o : ℕ) (ho : OutOk o) : Pr F PUnit := do
  gather M M.xn M.hxn M.wn (cUse blk n) hc (offCode blk) (offCode_inb hb)
  let w : Vec F S256x128 .f32 ← Prog.lift (.load M.wc (Rect.unit (s := S256x128) ![0, 0] S256x128.size inb_S256x128_S256x128_0_0).toLoadRect (View.loadsAt_vmem h_S256x128))
  let fin : Elt F .i32 ← smemLoad M.nb (Rect.unit (s := S193) (offNb e 1#32) S1.size hend) numel1_S1 rfl
  let x : Vec F S256x2048 .bf16 ← Prog.lift (.load M.xc (Rect.unit (s := S256x2048) ![0, 0] S256x2048.size inb_S256x2048_S256x2048_0_0).toLoadRect (View.loadsAt_vmem h_S256x2048))
  let gu : Vec F S2048x1024 .bf16 ← Prog.lift (.load M.gu (Rect.unit (s := S2048x1024) ![0, 0] S2048x1024.size inb_S2048x1024_S2048x1024_0_0).toLoadRect (View.loadsAt_vmem h_S2048x1024))
  putOut M o ho (blockVal x gu (laneWeight e w) (rowMask blk' fin))

/-- The very first copy. -/
def firstCopy {α : Type} (M : Mem) (blk e s n : BitVec 32) (h2 : chkS blk e s n) (k : Unit → Pr F α) : Pr F α :=
  if hf : cFirst blk n = 1#1 then do
    copyStart M s e (h2.ok hf)
    k ⟨⟩
  else
    k ⟨⟩

/-- The copy of the next expert. -/
def nextCopy {α : Type} (M : Mem) {blk e s x n e1 e0 : BitVec 32} (h3 : chkN blk e s x n e1 e0) (hn : cNew blk n e1 e0 = 1#1)
    (k : Unit → Pr F α) : Pr F α :=
  if hm : cMore x = 1#1 then do
    copyStart M (Scalar.subi 1#32 s) x (h3.ok' hn hm)
    k ⟨⟩
  else
    k ⟨⟩

/-- A new expert's weights. -/
def newExpert {α : Type} (M : Mem) (blk e s x n e1 e0 : BitVec 32) (h3 : chkN blk e s x n e1 e0) (k : Unit → Pr F α) : Pr F α :=
  if hn : cNew blk n e1 e0 = 1#1 then do
    copyWait M s e (h3.ok hn)
    nextCopy M h3 hn fun _ => do
      castWeights M s e (h3.ok hn)
      k ⟨⟩
  else
    k ⟨⟩

/-- The block's own work, where it is in use. -/
def useIf {α : Type} (M : Mem) (blk : BitVec 32) (hb : IsBlk blk) (blk' e s n : BitVec 32) (h2 : chkS blk e s n) (o : ℕ) (ho : OutOk o)
    (k : Unit → Pr F α) : Pr F α :=
  if hu : cUse blk n = 1#1 then do
    useBlock M blk hb blk' e n hu (h2.2.2.2.2.2 hu) o ho
    k ⟨⟩
  else
    k ⟨⟩

/-- A block, and the rest of the program told how many blocks are in use. -/
def block {α : Type} (M : Mem) (blk : BitVec 32) (hb : IsBlk blk) (blk' : BitVec 32) (o : ℕ) (ho : OutOk o) (k : BitVec 32 → Pr F α) : Pr F α := do
  let e : Elt F .i32 ← smemLoad M.be (Rect.unit (s := S320) (offBe blk) S1.size (offBe_inb hb)) numel1_S1 rfl
  have h1 : chkE e := (← Prog.lift (TpuEff.assume (chkE e) (chkE.dec e))).down
  let s : Elt F .i32 ← smemLoad M.nb (Rect.unit (s := S193) (offNb e 65#32) S1.size (h1 0)) numel1_S1 rfl
  let x : Elt F .i32 ← smemLoad M.nb (Rect.unit (s := S193) (offNb e 129#32) S1.size (h1 1)) numel1_S1 rfl
  let n : Elt F .i32 ← smemLoad M.nb (Rect.unit (s := S193) ![0] S1.size inb_S193_S1_0) numel1_S1 rfl
  have h2 : chkS blk e s n := (← Prog.lift (TpuEff.assume (chkS blk e s n) (chkS.dec blk e s n))).down
  firstCopy M blk e s n h2 fun _ => do
    let e1 : Elt F .i32 ← smemLoad M.be (Rect.unit (s := S320) (offBe blk) S1.size (offBe_inb hb)) numel1_S1 rfl
    let e0 : Elt F .i32 ← smemLoad M.be (Rect.unit (s := S320) (offPrev blk) S1.size (offPrev_inb hb)) numel1_S1 rfl
    have h3 : chkN blk e s x n e1 e0 := (← Prog.lift (TpuEff.assume (chkN blk e s x n e1 e0) (chkN.dec blk e s x n e1 e0))).down
    newExpert M blk e s x n e1 e0 h3 fun _ =>
      useIf M blk hb blk' e s n h2 o ho fun _ => k n

/-! ## The body -/

def blkA (i : grid0.Coords) : BitVec 32 := Scalar.muli 2#32 (BitVec.ofNat 32 (i 0).val)
def blkB (i : grid0.Coords) : BitVec 32 := Scalar.addi (Scalar.muli 2#32 (BitVec.ofNat 32 (i 0).val)) 1#32

theorem blkA_eq : ∀ j : Fin 160, Scalar.muli 2#32 (BitVec.ofNat 32 j.val) = BitVec.ofNat 32 (2 * j.val) := by decide +kernel
theorem blkB_eq : ∀ j : Fin 160, Scalar.addi (Scalar.muli 2#32 (BitVec.ofNat 32 j.val)) 1#32 = BitVec.ofNat 32 (2 * j.val + 1) := by
  decide +kernel
theorem isBlkA (i : grid0.Coords) : IsBlk (blkA i) :=
  ⟨⟨2 * (i 0).val, by have := (i 0).isLt; simp at this; omega⟩, blkA_eq (i 0)⟩
theorem isBlkB (i : grid0.Coords) : IsBlk (blkB i) :=
  ⟨⟨2 * (i 0).val + 1, by have := (i 0).isLt; simp at this; omega⟩, blkB_eq (i 0)⟩

def cStep0 (i : grid0.Coords) : BitVec 1 :=
  Scalar.cmpi .ne (Scalar.extui (Scalar.cmpi .eq (BitVec.ofNat 32 (i 0).val) 0#32) : BitVec 32) 0#32

/-- The first gather of all, then the rest. -/
def gatherIf {α : Type} (M : Mem) (i : grid0.Coords) (k : Unit → Pr F α) : Pr F α :=
  if h : cStep0 i = 1#1 then do
    gatherFirst M (cStep0 i) h
    k ⟨⟩
  else
    k ⟨⟩

/-- The zeros of a block not in use, then the rest. -/
def zeroIf {α : Type} (M : Mem) (blk n : BitVec 32) (o : ℕ) (ho : OutOk o) (k : Unit → Pr F α) : Pr F α :=
  if cIdle blk n = 1#1 then do
    putZero M o ho
    k ⟨⟩
  else
    k ⟨⟩

/-- The first of a step's two blocks. -/
def partA (M : Mem) (i : grid0.Coords) : Pr F (Σ' (_ : BitVec 32) (_ : Elt F .i32), BitVec 32) :=
  gatherIf M i fun _ =>
    block M (blkA i) (isBlkA i) (blkA i) 0 outOk0 fun n =>
      pure ⟨BitVec.ofNat 32 (i 0).val, n, Scalar.extui (Scalar.xori (Scalar.cmpi .slt (blkA i) n) 1#1)⟩

/-- The second. -/
def partB (M : Mem) (i : grid0.Coords) (a n : BitVec 32) : Pr F (Elt F .i32) :=
  zeroIf M (blkA i) n 0 outOk0 fun _ =>
    block M.swap (blkB i) (isBlkB i) (Scalar.addi (Scalar.muli 2#32 a) 1#32) 256 outOk256 fun n => pure n

/-- A step. -/
def body (M : Mem) (i : grid0.Coords) : Pr F PUnit := do
  let r : Σ' (_ : BitVec 32) (_ : Elt F .i32), BitVec 32 ← partA M i
  let n' : Elt F .i32 ← partB M i r.1 r.2.1
  zeroIf M (blkB i) n' 256 outOk256 fun _ => pure ⟨⟩

end Cert.MoeUp

end
-- ==== Proof.Rules.lean ====
module

public import proofs.«01_k».proof.Proof.Program
public import Idealize.ShloMosaic.Lib.Pipeline.FrameBody
public import Idealize.ShloMosaic.Lib.VecWindow
public import Idealize.ShloMosaic.Lib.Tactic

/-! What one load, one store, one read of a table does to a buffer owned at known contents. -/

@[expose] public section

noncomputable section

namespace Cert.MoeUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Core `c` runs `p` safely and ends in `Q`. -/
abbrev WP (c : Dev nD) {α : Type} (p : Pr F α) (Q : α → sProp 𝕄) : sProp 𝕄 :=
  wp frame (wpE (defs₀ (F := F)) Variants.none (c : Thread nD τ) none) Set.univ p Q

variable (c : Dev nD) {α β : Type}

theorem wp_seq {p : Pr F α} {k : α → Pr F β} {Q : β → sProp 𝕄} :
    WP c p (fun a => WP c (k a) Q) ⊢ WP c (p >>= k) Q := Entails.of_eq (wp_bind _ _ _ _ _ _).symm

theorem wp_done {a : α} {Q : α → sProp 𝕄} : Q a ⊢ WP c (pure a) Q := fupd_intro

/-- A load reads its window of what the memref holds. -/
theorem own_load {cs : CoreSpace} {s : Shape} {e : EltTy} {m : Memref sig .tc cs s e} {off size : Fin s.rank → ℕ} {inb : ∀ a, off a + size a ≤ s.size a}
    {hl : m.view.LoadsAt (Rect.unit (s := s) off size inb).toLoadRect} {q : PosShare TreeShare} {X : s.Idx → Elt F e}
    {Q : ((Rect.unit (s := s) off size inb).shape.Idx → Elt F e) → sProp 𝕄} :
    (owns (c : Thread nD τ) m q X : sProp 𝕄) ⊢
      iprop((owns (c : Thread nD τ) m q X -∗ Q (VecWindow.window X off size inb)) -∗
        WP c (Prog.lift (.load m (Rect.unit (s := s) off size inb).toLoadRect hl)) Q) := by
  unfold owns
  iintro ⟨%f, %hf, H⟩ K
  iapply (wp_load Variants.none (c : Thread nD τ) none Set.univ (View.setOn_subset_set _ _)) $$ H
  iintro H
  rw [View.readAt_unit m.view f inb rfl inb, hf]
  iapply (wp_done c)
  iapply K
  iexists f
  isplitr
  · ipureintro; exact hf
  · iexact H

/-- A store puts its payload over the window. -/
theorem own_store {cs : CoreSpace} {s : Shape} {e : EltTy} {m : Memref sig .tc cs s e} {off size : Fin s.rank → ℕ} {inb : ∀ a, off a + size a ≤ s.size a}
    {w : (Rect.unit (s := s) off size inb).shape.Idx → Elt F e} {hx : (m.access (Rect.unit (s := s) off size inb)).Stores Finset.univ}
    {hm : (Finset.univ : Finset (Rect.unit (s := s) off size inb).shape.Idx) = Finset.univ ∨ ∀ a, (Rect.unit (s := s) off size inb).stride a = 1}
    {X : s.Idx → Elt F e} {Q : PUnit → sProp 𝕄} :
    (owns (c : Thread nD τ) m fullShare X : sProp 𝕄) ⊢
      iprop((owns (c : Thread nD τ) m fullShare (VecWindow.put X off size w) -∗ Q ⟨⟩) -∗
        WP c (Prog.lift (.store m (Rect.unit (s := s) off size inb) w Finset.univ hx hm)) Q) := by
  unfold owns
  iintro ⟨%f, %hf, H⟩ K
  iapply (wp_store Variants.none (c : Thread nD τ) none Set.univ
    (((m.access (Rect.unit (s := s) off size inb)).setOn_subset_set _).trans (m.view.set_slice_subset _))) $$ H
  iintro H
  iapply (wp_done c)
  iapply K
  iexists _
  isplitr
  · ipureintro
    have h := View.read_writes_cons_put (Val := Elt F) m.view f inb w [] rfl
    rw [View.writes_nil, hf] at h
    exact h
  · iexact H

/-- A read of one word of a table. -/
theorem own_word {s : Shape} {e : EltTy} {m : Memref sig .tc .smem s e} {off size : Fin s.rank → ℕ} {inb : ∀ a, off a + size a ≤ s.size a}
    {h1 : (Rect.unit (s := s) off size inb).shape.numel = 1} {hb : e.packing = 1} {q : PosShare TreeShare} {X : s.Idx → Elt F e}
    {Q : Elt F e → sProp 𝕄} (i : s.Idx) (hi : ∀ a, (i a).val = off a) :
    (owns (c : Thread nD τ) m q X : sProp 𝕄) ⊢
      iprop((owns (c : Thread nD τ) m q X -∗ Q (X i)) -∗
        WP c (smemLoad m (Rect.unit (s := s) off size inb) h1 hb) Q) := by
  unfold owns
  iintro ⟨%f, %hf, H⟩ K
  iapply (wp_smemLoadElt Variants.none (c : Thread nD τ) none Set.univ (m := m) (r := Rect.unit (s := s) off size inb) (m.view.set_slice_subset _)) $$ H
  iintro H
  iapply (wp_done c)
  have h : (m.access (Rect.unit (s := s) off size inb)).read (Elt F) f (Shape.Idx.first (h1.symm ▸ Nat.one_pos)) = X i := by
    rw [← hf]
    refine congrArg (m.view.read (Elt F) f) (funext fun a => Fin.ext ?_)
    exact (show off a + 1 * 0 = off a by omega).trans (hi a).symm
  rw [h]
  iapply K
  iexists f
  isplitr
  · ipureintro; exact hf
  · iexact H

/-- What the body assumes holds. -/
theorem own_assume {P : Prop} {d : Decidable P} {Q : PLift P → sProp 𝕄} (h : P) :
    Q ⟨h⟩ ⊢ WP c (Prog.lift (.assume P d)) Q :=
  (wp_done c).trans (wp_assume Variants.none (c : Thread nD τ) none Set.univ h)

end Cert.MoeUp

end
-- ==== Proof.Gather.lean ====
module

public import proofs.«01_k».proof.Proof.Rules
public import Idealize.ShloMosaic.Lib.ValueLayout
public import Idealize.ShloMosaic.Lib.Pointwise.ElementwiseCore
public import Idealize.ShloMosaic.Lib.Pointwise.Reshape

/-! A gather: what it leaves in the activations and in the row weights, as functions of the packed words, the routing
    weights and the tokens the codes name. -/

@[expose] public section

noncomputable section

namespace Cert.MoeUp

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

theorem tok_lt (v : BitVec 32) : (tok v).toNat < 8192 := by
  have h : (tok v).toNat = (Scalar.shrsi v 3#32).toNat &&& 8191 := BitVec.toNat_and _ _
  rw [h]
  exact Nat.lt_of_le_of_lt Nat.and_le_right (by decide)

/-- The token a code names. -/
def tokOf (v : BitVec 32) : Fin 8192 := ⟨(tok v).toNat, tok_lt v⟩

theorem tok8 (v : BitVec 32) : (Scalar.muli (tok v) 8#32).toNat = 8 * (tokOf v).val := by
  have h := tok_lt v
  show (tok v * 8#32).toNat = 8 * (tok v).toNat
  rw [BitVec.toNat_mul]
  simp only [BitVec.toNat_ofNat]
  omega

theorem offHp_eq (v : BitVec 32) : offHp v = ![8 * (tokOf v).val, 0] := by
  unfold offHp
  exact congrArg (fun n => (![n, 0] : Fin 2 → ℕ)) (tok8 v)

theorem offWt_eq (v : BitVec 32) : offWt v = ![(tokOf v).val, 0] := rfl

/-- What is assumed of a code holds of every code. -/
theorem rowChk_all (c : BitVec 1) (v : BitVec 32) : rowChk c v := by
  have h := (tokOf v).isLt
  refine ⟨fun _ => ?_, fun _ => ?_, fun _ => ?_⟩
  · rw [tok8]; exact ⟨_, rfl⟩
  · rw [offHp_eq]; intro a; fin_cases a <;> simp [S8x128, S65536x128]; omega
  · rw [offWt_eq]; intro a; fin_cases a <;> simp [S1x128, S8192x128]; omega

/-- Half `i` of a packed word. -/
def half (i : ℕ) (x : BitVec 32) : F .bf16 :=
  FloatOps.truncf .bf16 bitsLt_bf16_f32 (FloatOps.extf .f32 (by decide) (FloatOps.ofBits .bf16 (x.extractLsb' (i * 16) 16)))

/-- The packed words of 256 tokens, eight rows each. -/
def packedRows (HP : S65536x128.Idx → Elt F .i32) (T : ℕ → Fin 8192) : S2048x128.Idx → Elt F .i32 :=
  fun y => HP (ValueIdx.ix2 ⟨8 * (T ((y 0).val / 8)).val + (y 0).val % 8, by have := (T ((y 0).val / 8)).isLt; omega⟩ (y 1))

/-- Their activations. -/
def xRows (HP : S65536x128.Idx → Elt F .i32) (T : ℕ → Fin 8192) : S256x2048.Idx → Elt F .bf16 :=
  fun y => half (F := F) ((y 1).val / 1024) (HP (ValueIdx.ix2 ⟨8 * (T (y 0).val).val + (y 1).val % 1024 / 128, by have := (T (y 0).val).isLt; omega⟩
    ⟨(y 1).val % 128, by omega⟩))

/-- Their routing weights. -/
def wRows (WT : S8192x128.Idx → Elt F .f32) (T : ℕ → Fin 8192) : S256x128.Idx → Elt F .f32 :=
  fun y => WT (ValueIdx.ix2 (T (y 0).val) (y 1))

/-! ## A row -/

variable (c : Dev nD) (M : Mem) (wd : Memref sig .tc .vmem S256x128 .f32)
  (CODE : S81920.Idx → Elt F .i32) (HP : S65536x128.Idx → Elt F .i32) (WT : S8192x128.Idx → Elt F .f32) (qc qh qw : PosShare TreeShare)

/-- The three buffers a gather reads. -/
def reads : sProp 𝕄 :=
  iprop(owns (c : Thread nD τ) M.code qc CODE ∗ owns (c : Thread nD τ) M.hp qh HP ∗ owns (c : Thread nD τ) M.wt qw WT)

theorem row_spec (b : BitVec 1) (hc : b = 1#1) (off : Fin 1 → ℕ) (hoff : ∀ a, off a + S1.size a ≤ S81920.size a) (r : ℕ) (hr : r < 256)
    (i : S81920.Idx) (hi : ∀ a, (i a).val = off a) (G : S2048x128.Idx → Elt F .i32) (W : S256x128.Idx → Elt F .f32) {Q : PUnit → sProp 𝕄} :
    (iprop(reads c M CODE HP WT qc qh qw ∗ owns (c : Thread nD τ) M.xg fullShare G ∗ owns (c : Thread nD τ) wd fullShare W) : sProp 𝕄) ⊢
      iprop((reads c M CODE HP WT qc qh qw
          ∗ owns (c : Thread nD τ) M.xg fullShare (VecWindow.put G ![8 * r, 0] S8x128.size
              (VecWindow.window HP (offHp (CODE i)) S8x128.size ((rowChk_all b (CODE i)).2.1 hc)))
          ∗ owns (c : Thread nD τ) wd fullShare (VecWindow.put W ![r, 0] S1x128.size
              (VecWindow.window WT (offWt (CODE i)) S1x128.size ((rowChk_all b (CODE i)).2.2 hc))) -∗ Q ⟨⟩) -∗
        WP c (row M wd b hc off hoff r hr) Q) := by
  unfold reads row
  iintro ⟨⟨HC, HH, HW⟩, HG, HD⟩ K
  iapply (wp_seq c)
  iapply (own_word c i hi) $$ HC
  iintro HC
  iapply (wp_seq c)
  iapply (own_assume c (rowChk_all b (CODE i)))
  iapply (wp_seq c)
  iapply (own_load c) $$ HH
  iintro HH
  iapply (wp_seq c)
  iapply (own_load c) $$ HG
  iintro HG
  iapply (wp_seq c)
  iapply (own_store c) $$ HG
  iintro HG
  iapply (wp_seq c)
  iapply (own_load c) $$ HW
  iintro HW
  iapply (wp_seq c)
  iapply (own_load c) $$ HD
  iintro HD
  iapply (own_store c) $$ HD
  iintro HD
  simp only [shapeCast_id]
  iapply K
  iframe

/-! ## All rows -/

variable (off : ℕ → Fin 1 → ℕ) (hoff : ∀ r, r < 256 → ∀ a, off r a + S1.size a ≤ S81920.size a)
  (i : ℕ → S81920.Idx) (hi : ∀ r, r < 256 → ∀ a, (i r a).val = off r a)

/-- The tokens the codes at `i` name. -/
def tokens (CODE : S81920.Idx → Elt F .i32) (i : ℕ → S81920.Idx) (r : ℕ) : Fin 8192 := tokOf (CODE (i r))

theorem put_packed (G : S2048x128.Idx → Elt F .i32) (T : ℕ → Fin 8192) (r : ℕ) (v : BitVec 32) (hv : tokOf v = T r)
    (h : ∀ a, (offHp v) a + S8x128.size a ≤ S65536x128.size a)
    (hG : ∀ y, (y 0).val < 8 * r → G y = packedRows (F := F) HP T y) :
    ∀ y, (y 0).val < 8 * (r + 1) → VecWindow.put G ![8 * r, 0] S8x128.size (VecWindow.window HP (offHp v) S8x128.size h) y
      = packedRows (F := F) HP T y := by
  intro y hy
  have h1 : (y 1).val < 128 := (y 1).isLt
  unfold VecWindow.put
  split
  · rename_i hin
    have h0 := hin 0
    simp only [S8x128, Matrix.cons_val_zero] at h0
    refine congrArg HP (funext fun a => Fin.ext ?_)
    have hd : (y 0).val / 8 = r := by omega
    match a with
    | ⟨0, _⟩ =>
      show offHp v 0 + 1 * ((y 0).val - 8 * r) = 8 * (T ((y 0).val / 8)).val + (y 0).val % 8
      rw [offHp_eq, hv, hd]
      show 8 * (T r).val + 1 * ((y 0).val - 8 * r) = _
      omega
    | ⟨1, _⟩ =>
      show offHp v 1 + 1 * ((y 1).val - 0) = (y 1).val
      rw [offHp_eq]
      show 0 + 1 * ((y 1).val - 0) = _
      omega
  · rename_i hout
    refine hG y (Nat.lt_of_not_le fun hle => hout fun a => ?_)
    match a with
    | ⟨0, _⟩ => exact ⟨hle, hy⟩
    | ⟨1, _⟩ => exact ⟨Nat.zero_le _, by show (y 1).val < 0 + 128; omega⟩

theorem put_weights (W : S256x128.Idx → Elt F .f32) (T : ℕ → Fin 8192) (r : ℕ) (v : BitVec 32) (hv : tokOf v = T r)
    (h : ∀ a, (offWt v) a + S1x128.size a ≤ S8192x128.size a)
    (hW : ∀ y, (y 0).val < r → W y = wRows WT T y) :
    ∀ y, (y 0).val < r + 1 → VecWindow.put W ![r, 0] S1x128.size (VecWindow.window WT (offWt v) S1x128.size h) y = wRows WT T y := by
  intro y hy
  have h1 : (y 1).val < 128 := (y 1).isLt
  unfold VecWindow.put
  split
  · rename_i hin
    have h0 := hin 0
    simp only [S1x128, Matrix.cons_val_zero] at h0
    refine congrArg WT (funext fun a => Fin.ext ?_)
    have hd : (y 0).val = r := by omega
    match a with
    | ⟨0, _⟩ =>
      show (tokOf v).val + 1 * ((y 0).val - r) = (T (y 0).val).val
      rw [hv, hd]; omega
    | ⟨1, _⟩ =>
      show 0 + 1 * ((y 1).val - 0) = (y 1).val
      omega
  · rename_i hout
    refine hW y (Nat.lt_of_not_le fun hle => hout fun a => ?_)
    match a with
    | ⟨0, _⟩ => exact ⟨hle, hy⟩
    | ⟨1, _⟩ => exact ⟨Nat.zero_le _, by show (y 1).val < 0 + 128; omega⟩

theorem rows_zero (b : BitVec 1) (hc : b = 1#1) : rows (F := F) M wd b hc off hoff 0 = pure ⟨⟩ := rfl
theorem rows_succ (b : BitVec 1) (hc : b = 1#1) (n : ℕ) : rows (F := F) M wd b hc off hoff (n + 1)
    = (row M wd b hc (off (255 - n)) (hoff (255 - n) (by omega)) (255 - n) (by omega) >>= fun _ => rows M wd b hc off hoff n) := rfl

include hi in
theorem rows_spec (b : BitVec 1) (hc : b = 1#1) (n : ℕ) (hn : n ≤ 256) : ∀ (G : S2048x128.Idx → Elt F .i32) (W : S256x128.Idx → Elt F .f32)
    (_ : ∀ y, (y 0).val < 8 * (256 - n) → G y = packedRows (F := F) HP (tokens CODE i) y)
    (_ : ∀ y, (y 0).val < 256 - n → W y = wRows WT (tokens CODE i) y) {Q : PUnit → sProp 𝕄},
    (iprop(reads c M CODE HP WT qc qh qw ∗ owns (c : Thread nD τ) M.xg fullShare G ∗ owns (c : Thread nD τ) wd fullShare W) : sProp 𝕄) ⊢
      iprop((reads c M CODE HP WT qc qh qw
          ∗ owns (c : Thread nD τ) M.xg fullShare (packedRows HP (tokens CODE i))
          ∗ owns (c : Thread nD τ) wd fullShare (wRows WT (tokens CODE i)) -∗ Q ⟨⟩) -∗
        WP c (rows M wd b hc off hoff n) Q) := by
  induction n with
  | zero =>
    intro G W hG hW Q
    rw [show G = packedRows HP (tokens CODE i) from funext fun y => hG y (y 0).isLt,
      show W = wRows WT (tokens CODE i) from funext fun y => hW y (y 0).isLt]
    iintro H K
    rw [rows_zero]
    iapply (wp_done c)
    iapply K $$ H
  | succ n ih =>
    intro G W hG hW Q
    iintro H K
    rw [rows_succ]
    iapply (wp_seq c)
    iapply (row_spec c M wd CODE HP WT qc qh qw b hc (off (255 - n)) (hoff (255 - n) (by omega)) (255 - n) _
      (i (255 - n)) (hi (255 - n) (by omega)) G W) $$ H
    iintro H
    iapply (ih (by omega) _ _ ?_ ?_) $$ H
    · intro y hy
      refine put_packed HP G (tokens CODE i) (255 - n) (CODE (i (255 - n))) rfl _ (fun y hy => hG y ?_) y (by omega)
      omega
    · intro y hy
      exact put_weights WT W (tokens CODE i) (255 - n) (CODE (i (255 - n))) rfl _ (fun y hy => hW y (by omega)) y (by omega)
    iexact K

/-! ## The unpacking -/

/-- The words by group, row and lane, unpacked. -/
def unpacked (t : S8x256x128.Idx → BitVec 32) : S256x2048.Idx → Elt F .bf16 :=
  fun y => half (F := F) ((y 1).val / 1024) (t (ValueIdx.ix3 ⟨(y 1).val % 1024 / 128, by omega⟩ (y 0) ⟨(y 1).val % 128, by omega⟩))

/-- One group's half, put where it belongs. -/
theorem put_half (k : ℕ) (hk : k < 2) (t : IVec S8x256x128 32) (s : Fin 8) (X : S256x2048.Idx → Elt F .bf16) (y : S256x2048.Idx) :
    VecWindow.put X ![0, 1024 * k + 128 * s.val] S256x128.size
      (truncf (F := F) .bf16 (unpackElementwise k (shapeCast S256x128 (extractStridedSlice S1x256x128 ![s.val, 0, 0] t (slices_row s)) shapeCasts_S1x256x128_S256x128) hk) bitsLt_bf16_f32) y
    = if 1024 * k + 128 * s.val ≤ (y 1).val ∧ (y 1).val < 1024 * k + 128 * s.val + 128 then unpacked (F := F) t y else X y := by
  have h0 : (y 0).val < 256 := (y 0).isLt
  have hs := s.isLt
  unfold VecWindow.put
  by_cases hc : 1024 * k + 128 * s.val ≤ (y 1).val ∧ (y 1).val < 1024 * k + 128 * s.val + 128
  · rw [if_pos hc, dif_pos (fun a => by
      match a with
      | ⟨0, _⟩ => exact ⟨Nat.zero_le _, by show (y 0).val < 0 + 256; omega⟩
      | ⟨1, _⟩ => exact hc)]
    have hk' : (y 1).val / 1024 = k := by omega
    show half (F := F) k (shapeCast S256x128 (extractStridedSlice S1x256x128 ![s.val, 0, 0] t (slices_row s)) shapeCasts_S1x256x128_S256x128
      (ValueIdx.ix2 ⟨(y 0).val, h0⟩ ⟨(y 1).val - (1024 * k + 128 * s.val), by omega⟩)) = _
    unfold unpacked
    rw [hk', shapeCast_1ab_ab_apply, extractStridedSlice_apply _ _ _ _ (ValueIdx.ix3 s ⟨(y 0).val, h0⟩ ⟨(y 1).val - (1024 * k + 128 * s.val), by omega⟩)]
    · refine congrArg (fun z => half (F := F) k (t z)) (funext fun a => Fin.ext ?_)
      match a with
      | ⟨0, _⟩ => show s.val = (y 1).val % 1024 / 128; omega
      | ⟨1, _⟩ => rfl
      | ⟨2, _⟩ => show (y 1).val - (1024 * k + 128 * s.val) = (y 1).val % 128; omega
    · intro a
      match a with
      | ⟨0, _⟩ => rfl
      | ⟨1, _⟩ => exact (Nat.zero_add _).symm
      | ⟨2, _⟩ => exact (Nat.zero_add _).symm
  · rw [if_neg hc, dif_neg fun h => hc (h 1)]

variable (xd : Memref sig .tc .vmem S256x2048 .bf16) (hxd : xd.IsWhole)

theorem chunks_spec (t : IVec S8x256x128 32) (n : ℕ) (hn : n ≤ 8) : ∀ (X : S256x2048.Idx → Elt F .bf16)
    (_ : ∀ y, (y 1).val % 1024 < 128 * (8 - n) → X y = unpacked (F := F) t y) {Q : PUnit → sProp 𝕄},
    (owns (c : Thread nD τ) xd fullShare X : sProp 𝕄) ⊢
      iprop((owns (c : Thread nD τ) xd fullShare (unpacked (F := F) t) -∗ Q ⟨⟩) -∗ WP c (chunks xd hxd t n) Q) := by
  induction n with
  | zero =>
    intro X hX Q
    rw [show X = unpacked t from funext fun y => hX y (Nat.mod_lt _ (by decide))]
    iintro H K
    unfold chunks
    iapply (wp_done c)
    iapply K $$ H
  | succ n ih =>
    intro X hX Q
    iintro H K
    unfold chunks chunk
    iapply (wp_seq c)
    iapply (wp_seq c)
    iapply (own_load c) $$ H
    iintro H
    iapply (wp_seq c)
    iapply (own_store c) $$ H
    iintro H
    iapply (wp_seq c)
    iapply (own_load c) $$ H
    iintro H
    iapply (own_store c) $$ H
    iintro H
    iapply (ih (by omega) _ ?_) $$ H
    · intro y hy
      have h1 : (y 1).val < 2048 := (y 1).isLt
      simp only [shapeCast_id]
      have e1 := put_half (F := F) 1 (by decide) t ⟨7 - n, by omega⟩ (VecWindow.put X ![0, 1024 * 0 + 128 * (7 - n)] S256x128.size
        (truncf (F := F) .bf16 (unpackElementwise 0 (shapeCast S256x128 (extractStridedSlice S1x256x128 ![7 - n, 0, 0] t (slices_row ⟨7 - n, by omega⟩)) shapeCasts_S1x256x128_S256x128)) bitsLt_bf16_f32)) y
      have e0 := put_half (F := F) 0 (by decide) t ⟨7 - n, by omega⟩ X y
      simp only [Nat.mul_one, Nat.mul_zero, Nat.zero_add] at e0 e1
      rw [e0] at e1
      refine e1.trans ?_
      split
      · rfl
      · split
        · rfl
        · exact hX y (by omega)
    iexact K

/-! ## The whole gather -/

theorem unpacked_packed (T : ℕ → Fin 8192) :
    unpacked (F := F) (transpose S8x256x128 [1, 0, 2] (shapeCast S256x8x128 (packedRows (F := F) HP T) shapeCasts_S2048x128_S256x8x128) transposes_S256x8x128_p1_0_2_S8x256x128)
      = xRows (F := F) HP T := by
  funext y
  have h0 : (y 0).val < 256 := (y 0).isLt
  unfold unpacked xRows
  refine congrArg (half (F := F) ((y 1).val / 1024)) ?_
  refine (transpose_apply (s := S256x8x128) _ _ _ _ (ValueIdx.ix3 ⟨(y 0).val, h0⟩ ⟨(y 1).val % 1024 / 128, by omega⟩ ⟨(y 1).val % 128, by omega⟩) ?_).trans
    ((shapeCast_apply (s := S2048x128) _ _ _ (ValueIdx.ix2 ⟨8 * (y 0).val + (y 1).val % 1024 / 128, by omega⟩ ⟨(y 1).val % 128, by omega⟩) ?_).trans ?_)
  rotate_left 2
  · unfold packedRows
    refine congrArg HP (funext fun a => Fin.ext ?_)
    match a with
    | ⟨0, _⟩ =>
      show 8 * (T ((8 * (y 0).val + (y 1).val % 1024 / 128) / 8)).val + (8 * (y 0).val + (y 1).val % 1024 / 128) % 8
        = 8 * (T (y 0).val).val + (y 1).val % 1024 / 128
      rw [show (8 * (y 0).val + (y 1).val % 1024 / 128) / 8 = (y 0).val by omega]
      omega
    | ⟨1, _⟩ => rfl
  · intro a
    match a with
    | ⟨0, _⟩ => rfl
    | ⟨1, _⟩ => rfl
    | ⟨2, _⟩ => rfl
  · rw [Shape.rowMajor_val_three, Shape.rowMajor_val_two]
    show (8 * (y 0).val + (y 1).val % 1024 / 128) * 128 + (y 1).val % 128 = ((y 0).val * 8 + (y 1).val % 1024 / 128) * 128 + (y 1).val % 128
    omega

/-- The window of all of it. -/
theorem window_all {α : Type} {s : Shape} (x : s.Idx → α) (o : Fin s.rank → ℕ) (inb : ∀ a, o a + s.size a ≤ s.size a) :
    VecWindow.window x o s.size inb = x := by
  funext y
  refine congrArg x (funext fun a => Fin.ext ?_)
  have := inb a
  show o a + 1 * (y a).val = (y a).val
  omega

include hi in
theorem gather_spec (b : BitVec 1) (hc : b = 1#1) (G : S2048x128.Idx → Elt F .i32) (X : S256x2048.Idx → Elt F .bf16) (W : S256x128.Idx → Elt F .f32)
    {Q : PUnit → sProp 𝕄} :
    (iprop(reads c M CODE HP WT qc qh qw ∗ owns (c : Thread nD τ) M.xg fullShare G ∗ owns (c : Thread nD τ) xd fullShare X
        ∗ owns (c : Thread nD τ) wd fullShare W) : sProp 𝕄) ⊢
      iprop((reads c M CODE HP WT qc qh qw
          ∗ owns (c : Thread nD τ) M.xg fullShare (packedRows HP (tokens CODE i))
          ∗ owns (c : Thread nD τ) xd fullShare (xRows HP (tokens CODE i))
          ∗ owns (c : Thread nD τ) wd fullShare (wRows WT (tokens CODE i)) -∗ Q ⟨⟩) -∗
        WP c (gather M xd hxd wd b hc off hoff) Q) := by
  iintro ⟨HR, HG, HX, HW⟩ K
  unfold gather
  iapply (wp_seq c)
  ihave H : iprop(reads c M CODE HP WT qc qh qw ∗ owns (c : Thread nD τ) M.xg fullShare G ∗ owns (c : Thread nD τ) wd fullShare W) $$ [HR HG HW]
  · iframe
  iapply (rows_spec c M wd CODE HP WT qc qh qw off hoff i hi b hc 256 le_rfl G W (fun y hy => absurd hy (by simp)) (fun y hy => absurd hy (by simp))) $$ H
  iintro ⟨HR, HG, HW⟩
  iapply (wp_seq c)
  iapply (own_load c) $$ HG
  iintro HG
  iapply (chunks_spec c xd hxd _ 8 le_rfl X (fun y hy => absurd hy (by simp))) $$ HX
  iintro HX
  iapply K
  rw [window_all (s := S2048x128), unpacked_packed]
  iframe

end Cert.MoeUp

end
-- ==== Proof.Copies.lean ====
module

public import proofs.«01_k».proof.Proof.Gather
public import Idealize.ShloMosaic.Lib.Transfers

/-! The copies of an expert's weights into a slot of the staging buffer, their waits, and the rounding of what they
    brought. -/

@[expose] public section

noncomputable section

namespace Cert.MoeUp

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => (countersEmb (U := Pipeline.UD sig nD τ) : UEmb Counters 𝕄)

variable (c : Dev nD) (M : Mem)

/-- The waits the core has recorded. -/
def Owes : sProp 𝕄 := iprop(∃ W, owes (c : Thread nD τ) 0 W)

/-! ## One copy and one wait -/

theorem own_copy {sp sp' : Space} {s : Shape} {e : EltTy} (hs : 0 < s.numel) {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    {fs : Buf (Elt F) (src.view.loc (c : Thread nD τ))} {X : s.Idx → Elt F e} {Q : PUnit → sProp 𝕄} :
    (iprop((src.view.loc (c : Thread nD τ) ↦[src.view.set]{fullShare} fs) ∗ owns (c : Thread nD τ) dst fullShare X
        ∗ semVal ((c : Thread nD τ), .dma sem) 0) : sProp 𝕄) ⊢
      iprop((Flight EC (c : Thread nD τ) (.dma sem) () dst.view.dmaCredit
            iprop(owns (c : Thread nD τ) dst fullShare (src.view.read (Elt F) fs) ∗ (src.view.loc (c : Thread nD τ) ↦[src.view.set]{fullShare} fs))
          -∗ Q ⟨⟩) -∗
        WP c (Prog.lift (.enqueueDma src (.here dst) (.dma sem) hsrc hdst hsem)) Q) := by
  iintro ⟨Hs, Hd, Hv⟩ K
  unfold owns
  icases Hd with ⟨%fd, -, Hd⟩
  ihave H : iprop((src.view.loc (c : Thread nD τ) ↦[src.view.set]{fullShare} fs) ∗ (dst.view.loc (c : Thread nD τ) ↦[dst.view.set]{fullShare} fd)
      ∗ semVal ((c : Thread nD τ), .dma sem) 0) $$ [Hs Hd Hv]
  · iframe
  iapply (wp_dmaLocal EC Variants.none (c : Thread nD τ) none () dst.view.dmaCredit rfl (View.dmaCredit_pos _ hs) (Finset.Subset.refl _)) $$ H
  iintro H
  iapply (wp_done c)
  iapply K
  iapply (Flight_mono EC (c : Thread nD τ) ?_) $$ H
  iintro ⟨Hd, Hs⟩
  isplitl [Hd]
  · iexists (dst.view.write (Elt F) fd (src.view.read (Elt F) fs) Finset.univ)
    isplitr
    · ipureintro; exact View.read_write_univ _ _
    · iexact Hd
  · iexact Hs

theorem own_wait {sp sp' : Space} {s s' : Shape} {e e' : EltTy} {srcw : Memref sig .tc sp' s' e'} {dst : Memref sig .tc sp s e} {sem : DmaSem sig}
    {hsrc : srcw.view.WordExact} {hdst : dst.view.WordExact} {D : sProp 𝕄} {Q : PUnit → sProp 𝕄} :
    (iprop(Flight EC (c : Thread nD τ) (.dma sem) () dst.view.dmaCredit D ∗ Owes (F := F) c) : sProp 𝕄) ⊢
      iprop((D ∗ semVal ((c : Thread nD τ), .dma sem) 0 ∗ Owes (F := F) c -∗ Q ⟨⟩) -∗
        WP c (Prog.lift (.waitDma2 sem srcw dst hsrc hdst)) Q) := by
  unfold Owes
  iintro ⟨HF, %W, HO⟩ K
  ihave H : iprop(Flight EC (c : Thread nD τ) (.dma sem) () dst.view.dmaCredit D ∗ owes (c : Thread nD τ) 0 W) $$ [HF HO]
  · iframe
  iapply (wp_waitLocal EC Variants.none (c : Thread nD τ) none () rfl) $$ H
  iintro ⟨HD, HV, HO⟩
  iapply (wp_done c)
  iapply K
  iframe
  iexists _
  iexact HO

/-! ## The weights -/

/-- An expert's number. -/
def expert (e : BitVec 32) : Fin 64 := ⟨e.toNat % 64, Nat.mod_lt _ (by decide)⟩

/-- An expert's matrix. -/
def expertRows (W : S64x2048x512.Idx → Elt F .f32) (e : Fin 64) : S2048x512.Idx → Elt F .f32 :=
  fun y => W (ValueIdx.ix3 e (y 0) (y 1))

/-- An expert's two matrices, rounded, side by side. -/
def bothRows (WG WU : S64x2048x512.Idx → Elt F .f32) (e : Fin 64) : S2048x1024.Idx → Elt F .bf16 :=
  fun y => if h : (y 1).val < 512 then FloatOps.truncf .bf16 bitsLt_bf16_f32 (WG (ValueIdx.ix3 e (y 0) ⟨(y 1).val, h⟩))
    else FloatOps.truncf .bf16 bitsLt_bf16_f32 (WU (ValueIdx.ix3 e (y 0) ⟨(y 1).val - 512, by have : (y 1).val < 1024 := (y 1).isLt; omega⟩))

theorem read_wOf (w : Memref sig .tc .hbm S64x2048x512 .f32) (e : BitVec 32) (h : ∀ a, wOff e a + S1x2048x512.size a ≤ S64x2048x512.size a)
    (f : w.view.ty.Contents (Elt F)) :
    (wOf w (wOff e) h).view.read (Elt F) f = expertRows (w.view.read (Elt F) f) (expert e) := by
  have he : e.toNat + 1 ≤ 64 := h 0
  funext y
  refine congrArg (w.view.read (Elt F) f) (funext fun a => Fin.ext ?_)
  show wOff e a + 1 * (Shape.reshapeEquiv squeezes_S1x2048x512_S2048x512.numel_eq y a).val = _
  have hy : y = ValueIdx.ix2 (⟨(y 0).val, (y 0).isLt⟩ : Fin 2048) (⟨(y 1).val, (y 1).isLt⟩ : Fin 512) := by
    funext a
    match a with
    | ⟨0, _⟩ => rfl
    | ⟨1, _⟩ => rfl
  rw [hy, ValueIdx.reshapeEquiv_ix2_1ab]
  match a with
  | ⟨0, _⟩ => show e.toNat + 1 * 0 = e.toNat % 64; omega
  | ⟨1, _⟩ => show 0 + 1 * (y 0).val = (y 0).val; omega
  | ⟨2, _⟩ => show 0 + 1 * (y 1).val = (y 1).val; omega

theorem set_wOf (w : Memref sig .tc .hbm S64x2048x512 .f32) (e : BitVec 32) (h : ∀ a, wOff e a + S1x2048x512.size a ≤ S64x2048x512.size a) :
    (wOf w (wOff e) h).view.set ⊆ w.view.set := by
  unfold wOf
  exact (subset_of_eq ((w.view.slice _).set_reshape _)).trans (w.view.set_slice_subset _)

/-! ## The states of a slot -/

variable (fg : Buf (Elt F) (M.wg.view.loc (c : Thread nD τ))) (fu : Buf (Elt F) (M.wu.view.loc (c : Thread nD τ)))

/-- The weights, whole. -/
def Home : sProp 𝕄 :=
  iprop((M.wg.view.loc (c : Thread nD τ) ↦[M.wg.view.set]{fullShare} fg) ∗ (M.wu.view.loc (c : Thread nD τ) ↦[M.wu.view.set]{fullShare} fu))

/-- What a slot needs to be one. -/
structure SlotOk (s : BitVec 32) : Prop where
  sem0 : ∀ a, semOff s 0 a + S1x1.size a ≤ S2x2.size a
  sem1 : ∀ a, semOff s 1 a + S1x1.size a ≤ S2x2.size a
  st0 : ∀ a, stOff s 0 a + S1x1x2048x512.size a ≤ S2x2x2048x512.size a
  st1 : ∀ a, stOff s 1 a + S1x1x2048x512.size a ≤ S2x2x2048x512.size a

theorem CopyOk.slot {s e : BitVec 32} (h : CopyOk s e) : SlotOk s := ⟨h.sem0, h.sem1, h.st0, h.st1⟩

/-- A slot at known contents, no copy under way. -/
def Landed (s : BitVec 32) (h : SlotOk s) (G U : S2048x512.Idx → Elt F .f32) : sProp 𝕄 :=
  iprop(owns (c : Thread nD τ) (stOf M (stOff s 0) h.st0) fullShare G ∗ owns (c : Thread nD τ) (stOf M (stOff s 1) h.st1) fullShare U
    ∗ semVal ((c : Thread nD τ), .dma (semOf M (semOff s 0) h.sem0).sem) 0 ∗ semVal ((c : Thread nD τ), .dma (semOf M (semOff s 1) h.sem1).sem) 0)

/-- A slot no copy is under way to. -/
def Idle (s : BitVec 32) (h : SlotOk s) : sProp 𝕄 := iprop(∃ G U, Landed (F := F) c M s h G U)

/-- A slot both copies of expert `e`'s weights are under way to; the rest of the weights is at hand. -/
def Busy (s e : BitVec 32) (h : CopyOk s e) : sProp 𝕄 :=
  iprop(Flight EC (c : Thread nD τ) (.dma (semOf M (semOff s 0) h.sem0).sem) () (stOf M (stOff s 0) h.st0).view.dmaCredit
      iprop(owns (c : Thread nD τ) (stOf M (stOff s 0) h.st0) fullShare (expertRows (M.wg.view.read (Elt F) fg) (expert e))
        ∗ ((wOf M.wg (wOff e) h.w).view.loc (c : Thread nD τ) ↦[(wOf M.wg (wOff e) h.w).view.set]{fullShare} fg))
    ∗ (M.wg.view.loc (c : Thread nD τ) ↦[M.wg.view.set \ (wOf M.wg (wOff e) h.w).view.set]{fullShare} fg)
    ∗ Flight EC (c : Thread nD τ) (.dma (semOf M (semOff s 1) h.sem1).sem) () (stOf M (stOff s 1) h.st1).view.dmaCredit
      iprop(owns (c : Thread nD τ) (stOf M (stOff s 1) h.st1) fullShare (expertRows (M.wu.view.read (Elt F) fu) (expert e))
        ∗ ((wOf M.wu (wOff e) h.w).view.loc (c : Thread nD τ) ↦[(wOf M.wu (wOff e) h.w).view.set]{fullShare} fu))
    ∗ (M.wu.view.loc (c : Thread nD τ) ↦[M.wu.view.set \ (wOf M.wu (wOff e) h.w).view.set]{fullShare} fu))

theorem copyStart_spec (s e : BitVec 32) (h : CopyOk s e) {Q : PUnit → sProp 𝕄} :
    (iprop(Idle (F := F) c M s h.slot ∗ Home c M fg fu) : sProp 𝕄) ⊢
      iprop((Busy c M fg fu s e h -∗ Q ⟨⟩) -∗ WP c (copyStart M s e h) Q) := by
  unfold Idle Landed Home Busy copyStart
  iintro ⟨⟨%G, %U, HG, HU, HV0, HV1⟩, Hg, Hu⟩ K
  icases (pointsTo_split_subset (set_wOf M.wg e h.w)).1 $$ Hg with ⟨Hg, Hg'⟩
  icases (pointsTo_split_subset (set_wOf M.wu e h.w)).1 $$ Hu with ⟨Hu, Hu'⟩
  iapply (wp_seq c)
  ihave H : iprop(((wOf M.wg (wOff e) h.w).view.loc (c : Thread nD τ) ↦[(wOf M.wg (wOff e) h.w).view.set]{fullShare} fg)
      ∗ owns (c : Thread nD τ) (stOf M (stOff s 0) h.st0) fullShare G ∗ semVal ((c : Thread nD τ), .dma (semOf M (semOff s 0) h.sem0).sem) 0) $$ [Hg HG HV0]
  · isplitl [Hg]; · iexact Hg
    iframe
  iapply (own_copy c (by decide) (src := wOf M.wg (wOff e) h.w) (dst := stOf M (stOff s 0) h.st0) (fs := fg)) $$ H
  iintro HF0
  ihave H : iprop(((wOf M.wu (wOff e) h.w).view.loc (c : Thread nD τ) ↦[(wOf M.wu (wOff e) h.w).view.set]{fullShare} fu)
      ∗ owns (c : Thread nD τ) (stOf M (stOff s 1) h.st1) fullShare U ∗ semVal ((c : Thread nD τ), .dma (semOf M (semOff s 1) h.sem1).sem) 0) $$ [Hu HU HV1]
  · isplitl [Hu]; · iexact Hu
    iframe
  iapply (own_copy c (by decide) (src := wOf M.wu (wOff e) h.w) (dst := stOf M (stOff s 1) h.st1) (fs := fu)) $$ H
  iintro HF1
  rw [read_wOf, read_wOf]
  iapply K
  iframe

theorem copyWait_spec (s e : BitVec 32) (h : CopyOk s e) {Q : PUnit → sProp 𝕄} :
    (iprop(Busy c M fg fu s e h ∗ Owes (F := F) c) : sProp 𝕄) ⊢
      iprop((Landed c M s h.slot (expertRows (M.wg.view.read (Elt F) fg) (expert e)) (expertRows (M.wu.view.read (Elt F) fu) (expert e))
          ∗ Home c M fg fu ∗ Owes (F := F) c -∗ Q ⟨⟩) -∗ WP c (copyWait M s e h) Q) := by
  unfold Landed Home Busy copyWait
  iintro ⟨⟨HF0, Hg', HF1, Hu'⟩, HO⟩ K
  iapply (wp_seq c)
  ihave H : iprop(Flight EC (c : Thread nD τ) (.dma (semOf M (semOff s 0) h.sem0).sem) () (stOf M (stOff s 0) h.st0).view.dmaCredit
      iprop(owns (c : Thread nD τ) (stOf M (stOff s 0) h.st0) fullShare (expertRows (M.wg.view.read (Elt F) fg) (expert e))
        ∗ ((wOf M.wg (wOff e) h.w).view.loc (c : Thread nD τ) ↦[(wOf M.wg (wOff e) h.w).view.set]{fullShare} fg)) ∗ Owes (F := F) c) $$ [HF0 HO]
  · iframe
  iapply (own_wait c (srcw := wOf M.wg (wOff e) h.w) (dst := stOf M (stOff s 0) h.st0) (hsrc := (View.wordExact_bits rfl).reshape _ _) (hdst := (View.wordExact_bits rfl).reshape _ _)) $$ H
  iintro ⟨⟨HG, Hg⟩, HV0, HO⟩
  ihave H : iprop(Flight EC (c : Thread nD τ) (.dma (semOf M (semOff s 1) h.sem1).sem) () (stOf M (stOff s 1) h.st1).view.dmaCredit
      iprop(owns (c : Thread nD τ) (stOf M (stOff s 1) h.st1) fullShare (expertRows (M.wu.view.read (Elt F) fu) (expert e))
        ∗ ((wOf M.wu (wOff e) h.w).view.loc (c : Thread nD τ) ↦[(wOf M.wu (wOff e) h.w).view.set]{fullShare} fu)) ∗ Owes (F := F) c) $$ [HF1 HO]
  · iframe
  iapply (own_wait c (srcw := wOf M.wu (wOff e) h.w) (dst := stOf M (stOff s 1) h.st1) (hsrc := (View.wordExact_bits rfl).reshape _ _) (hdst := (View.wordExact_bits rfl).reshape _ _)) $$ H
  iintro ⟨⟨HU, Hu⟩, HV1, HO⟩
  iapply K
  isplitl [HG HU HV0 HV1]
  · iframe
  isplitr [HO]
  · isplitl [Hg Hg']
    · iapply (pointsTo_split_subset (set_wOf M.wg e h.w)).2
      isplitl [Hg]; · iexact Hg
      iexact Hg'
    · iapply (pointsTo_split_subset (set_wOf M.wu e h.w)).2
      isplitl [Hu]; · iexact Hu
      iexact Hu'
  · iexact HO

/-! ## The rounding -/

/-- A load of a plane of the staging buffer. -/
theorem own_plane {off : Fin 4 → ℕ} {h : ∀ a, off a + S1x1x2048x512.size a ≤ S2x2x2048x512.size a}
    {hl : M.st.view.LoadsAt (Rect.unit (s := S2x2x2048x512) off S1x1x2048x512.size h).toLoadRect} {X : S2048x512.Idx → Elt F .f32}
    {Q : (S1x1x2048x512.Idx → Elt F .f32) → sProp 𝕄} :
    (owns (c : Thread nD τ) (stOf M off h) fullShare X : sProp 𝕄) ⊢
      iprop((∀ g : S1x1x2048x512.Idx → Elt F .f32, ⌜shapeCast S2048x512 g shapeCasts_S1x1x2048x512_S2048x512 = X⌝ -∗ owns (c : Thread nD τ) (stOf M off h) fullShare X -∗ Q g) -∗
        WP c (Prog.lift (.load M.st (Rect.unit (s := S2x2x2048x512) off S1x1x2048x512.size h).toLoadRect hl)) Q) := by
  have hp (f : Buf (Elt F) ((M.st.access (Rect.unit (s := S2x2x2048x512) off S1x1x2048x512.size h)).loc (c : Thread nD τ))) :
      ((stOf M off h).view.loc (c : Thread nD τ) ↦[(stOf M off h).view.set]{fullShare} f : sProp 𝕄)
        = ((M.st.access (Rect.unit (s := S2x2x2048x512) off S1x1x2048x512.size h)).loc (c : Thread nD τ)
            ↦[(M.st.access (Rect.unit (s := S2x2x2048x512) off S1x1x2048x512.size h)).set]{fullShare} f) :=
    congrArg (fun S => ((M.st.access (Rect.unit (s := S2x2x2048x512) off S1x1x2048x512.size h)).loc (c : Thread nD τ) ↦[S]{fullShare} f : sProp 𝕄))
      ((M.st.view.slice _).set_reshape _)
  unfold owns
  iintro ⟨%f, %hf, H⟩ K
  ihave H := (Entails.of_eq (hp f)) $$ H
  iapply (wp_load_rect Variants.none (c : Thread nD τ) none Set.univ (cs := .vmem) (m := M.st) (r := Rect.unit (s := S2x2x2048x512) off S1x1x2048x512.size h) (hl := hl) (q := fullShare) (f := f) (Finset.Subset.refl _)) $$ H
  iintro H
  iapply (wp_done c)
  iapply K
  · ipureintro; exact hf
  · iexists f
    isplitr
    · ipureintro; exact hf
    · iapply (Entails.of_eq (hp f).symm) $$ H

theorem put_both (WG WU : S64x2048x512.Idx → Elt F .f32) (e : Fin 64) (X : S2048x1024.Idx → Elt F .bf16) :
    VecWindow.put (VecWindow.put X ![0, 0] S2048x512.size (truncf (F := F) .bf16 (expertRows WG e) bitsLt_bf16_f32)) ![0, 512] S2048x512.size
      (truncf (F := F) .bf16 (expertRows WU e) bitsLt_bf16_f32) = bothRows WG WU e := by
  funext y
  have h0 : (y 0).val < 2048 := (y 0).isLt
  have h1 : (y 1).val < 1024 := (y 1).isLt
  unfold VecWindow.put bothRows
  by_cases hy : (y 1).val < 512
  · rw [dif_neg (fun h => absurd (h 1).1 (Nat.not_le.mpr hy)), dif_pos (fun a => by
      match a with
      | ⟨0, _⟩ => exact ⟨Nat.zero_le _, by show (y 0).val < 0 + 2048; omega⟩
      | ⟨1, _⟩ => exact ⟨Nat.zero_le _, by show (y 1).val < 0 + 512; omega⟩), dif_pos hy]
    rfl
  · rw [dif_pos (fun a => by
      match a with
      | ⟨0, _⟩ => exact ⟨Nat.zero_le _, by show (y 0).val < 0 + 2048; omega⟩
      | ⟨1, _⟩ => exact ⟨Nat.le_of_not_lt hy, by show (y 1).val < 512 + 512; omega⟩), dif_neg hy]
    rfl

theorem castWeights_spec (s e : BitVec 32) (h : CopyOk s e) (WG WU : S64x2048x512.Idx → Elt F .f32) (X : S2048x1024.Idx → Elt F .bf16) {Q : PUnit → sProp 𝕄} :
    (iprop(Landed c M s h.slot (expertRows WG (expert e)) (expertRows WU (expert e)) ∗ owns (c : Thread nD τ) M.gu fullShare X) : sProp 𝕄) ⊢
      iprop((Idle (F := F) c M s h.slot ∗ owns (c : Thread nD τ) M.gu fullShare (bothRows WG WU (expert e)) -∗ Q ⟨⟩) -∗
        WP c (castWeights M s e h) Q) := by
  unfold Idle Landed castWeights
  iintro ⟨⟨HG, HU, HV⟩, HX⟩ K
  iapply (wp_seq c)
  iapply (own_plane c M) $$ HG
  iintro %g %hg HG
  iapply (wp_seq c)
  iapply (own_load c) $$ HX
  iintro HX
  iapply (wp_seq c)
  iapply (own_store c) $$ HX
  iintro HX
  iapply (wp_seq c)
  iapply (own_plane c M) $$ HU
  iintro %u %hu HU
  iapply (wp_seq c)
  iapply (own_load c) $$ HX
  iintro HX
  iapply (own_store c) $$ HX
  iintro HX
  iapply K
  isplitr [HX]
  · iexists _, _
    iframe
  · rw [hg, hu]
    simp only [shapeCast_id]
    have e := put_both WG WU (expert e) X
    rw [← e]
    iexact HX

end Cert.MoeUp

end
-- ==== Proof.Plan.lean ====
module

public import proofs.«01_k».proof.Proof.Program
public import Idealize.ShloMosaic.Lib.WordCmp
public import Idealize.ShloMosaic.Lib.ValueLayout

/-! The tables the kernel is told its blocks by: what must hold of them, and what the kernel's tests say in terms of
    them. -/

@[expose] public section

namespace Cert.MoeUp

open Cert.KernelIdeal Cert.KernelIdeal.Gen
open Idealize.ShloMosaic Idealize.ShloMosaic.WordCmp

/-! ## Entries -/

/-- An entry of the table of counts, ends, slots and successors. -/
def nbAt (NB : S193.Idx → BitVec 32) (k : ℕ) : BitVec 32 := NB (ValueIdx.ix1 ⟨k % 193, Nat.mod_lt _ (by decide)⟩)
/-- The expert of a block. -/
def beAt (BE : S320.Idx → BitVec 32) (b : ℕ) : BitVec 32 := BE (ValueIdx.ix1 ⟨min b 319, by omega⟩)
/-- How many blocks are in use. -/
def used (NB : S193.Idx → BitVec 32) : BitVec 32 := nbAt NB 0
/-- Where an expert's rows end. -/
def finOf (NB : S193.Idx → BitVec 32) (e : BitVec 32) : BitVec 32 := nbAt NB (1 + e.toNat)
/-- The slot its weights are staged in. -/
def slotOf (NB : S193.Idx → BitVec 32) (e : BitVec 32) : BitVec 32 := nbAt NB (65 + e.toNat)
/-- The expert in use after it, negative if there is none. -/
def nextOf (NB : S193.Idx → BitVec 32) (e : BitVec 32) : BitVec 32 := nbAt NB (129 + e.toNat)

/-- A word not negative. -/
def More (x : BitVec 32) : Prop := x.toNat < 2 ^ 31
instance (x : BitVec 32) : Decidable (More x) := inferInstanceAs (Decidable (x.toNat < 2 ^ 31))

/-- What the kernel relies on. -/
structure Plan (BE : S320.Idx → BitVec 32) (NB : S193.Idx → BitVec 32) : Prop where
  used_le : (used NB).toNat ≤ 320
  expert_lt : ∀ b, (beAt BE b).toNat < 64
  slot : ∀ e : BitVec 32, e.toNat < 64 → slotOf NB e = 0#32 ∨ slotOf NB e = 1#32
  step : ∀ b, b + 1 < (used NB).toNat → beAt BE b ≠ beAt BE (b + 1) →
    nextOf NB (beAt BE b) = beAt BE (b + 1) ∧ slotOf NB (beAt BE (b + 1)) = Scalar.subi 1#32 (slotOf NB (beAt BE b))
  last : ∀ b, b + 1 = (used NB).toNat → ¬ More (nextOf NB (beAt BE b))

variable {BE : S320.Idx → BitVec 32} {NB : S193.Idx → BitVec 32}

/-- The successor of a block's expert is in use at a later block, in the other slot, if there is one at all. -/
theorem Plan.next (P : Plan BE NB) : ∀ k b, b + 1 + k = (used NB).toNat → More (nextOf NB (beAt BE b)) →
    ∃ j, nextOf NB (beAt BE b) = beAt BE j ∧ slotOf NB (beAt BE j) = Scalar.subi 1#32 (slotOf NB (beAt BE b)) := by
  intro k
  induction k with
  | zero => intro b hb hm; exact absurd hm (P.last b hb)
  | succ k ih =>
    intro b hb hm
    by_cases he : beAt BE b = beAt BE (b + 1)
    · rw [he] at hm ⊢
      exact ih (b + 1) (by omega) hm
    · exact ⟨b + 1, P.step b (by omega) he⟩

/-! ## The tests -/

theorem word_ne (p : BitVec 1) : Scalar.cmpi .ne (Scalar.extui p : BitVec 32) 0#32 = 1#1 ↔ p = 1#1 := by revert p; decide
theorem word_and (p q : BitVec 1) : Scalar.andi p q = 1#1 ↔ p = 1#1 ∧ q = 1#1 := by revert p q; decide
theorem word_or (p q : BitVec 1) : Scalar.ori p q = 1#1 ↔ p = 1#1 ∨ q = 1#1 := by revert p q; decide
theorem word_not (p : BitVec 1) : Scalar.xori p 1#1 = 1#1 ↔ ¬ p = 1#1 := by revert p; decide
theorem word_eq (x y : BitVec 32) : Scalar.cmpi .eq x y = 1#1 ↔ x = y := by
  show IntOp.cmpi .eq x y = 1#1 ↔ _
  rw [cmpi_eq_eq, ofBool_decide_eq_one_iff]
theorem word_neq (x y : BitVec 32) : Scalar.cmpi .ne x y = 1#1 ↔ x ≠ y := by
  show IntOp.cmpi .ne x y = 1#1 ↔ _
  rw [cmpi_ne_eq, ofBool_decide_eq_one_iff]
theorem word_slt (b : ℕ) (hb : b < 320) (n : BitVec 32) (hn : n.toNat ≤ 320) :
    Scalar.cmpi .slt (BitVec.ofNat 32 b) n = 1#1 ↔ b < n.toNat := by
  have h : (BitVec.ofNat 32 b).toNat = b := toNat_ofNat_of_lt (by omega)
  show IntOp.cmpi .slt (BitVec.ofNat 32 b) n = 1#1 ↔ _
  rw [cmpi_slt_of_lt (by rw [h]; omega) (by omega), ofBool_decide_eq_one_iff, h]
theorem word_min (b : ℕ) (hb : b < 320) : Scalar.minsi (BitVec.ofNat 32 b) 319#32 = BitVec.ofNat 32 b :=
  (show ∀ b : Fin 320, Scalar.minsi (BitVec.ofNat 32 b.val) 319#32 = BitVec.ofNat 32 b.val by decide +kernel) ⟨b, hb⟩
theorem word_zero (b : ℕ) (hb : b < 320) : BitVec.ofNat 32 b = 0#32 ↔ b = 0 := by
  rw [ofNat_eq_ofNat_iff (by omega) (by omega)]

theorem cUse_iff (b : ℕ) (hb : b < 320) (n : BitVec 32) (hn : n.toNat ≤ 320) : cUse (BitVec.ofNat 32 b) n = 1#1 ↔ b < n.toNat := by
  unfold cUse; rw [word_ne, word_slt b hb n hn]
theorem cIdle_iff (b : ℕ) (hb : b < 320) (n : BitVec 32) (hn : n.toNat ≤ 320) : cIdle (BitVec.ofNat 32 b) n = 1#1 ↔ ¬ b < n.toNat := by
  unfold cIdle; rw [word_ne, word_not, word_slt b hb n hn]
theorem cFirst_iff (b : ℕ) (hb : b < 320) (n : BitVec 32) (hn : n.toNat ≤ 320) :
    cFirst (BitVec.ofNat 32 b) n = 1#1 ↔ b < n.toNat ∧ b = 0 := by
  unfold cFirst; rw [word_ne, word_and, word_slt b hb n hn, word_eq, word_zero b hb]
theorem cNew_iff (b : ℕ) (hb : b < 320) (n : BitVec 32) (hn : n.toNat ≤ 320) (e1 e0 : BitVec 32) :
    cNew (BitVec.ofNat 32 b) n e1 e0 = 1#1 ↔ b < n.toNat ∧ (b = 0 ∨ e1 ≠ e0) := by
  unfold cNew; rw [word_ne, word_and, word_slt b hb n hn, word_or, word_min b hb, word_eq, word_zero b hb, word_neq]
theorem cMore_iff (x : BitVec 32) : cMore x = 1#1 ↔ More x := by
  unfold cMore; rw [word_ne]
  show IntOp.cmpi .sge x 0#32 = 1#1 ↔ _
  rw [cmpi_sge_zero, ofBool_decide_eq_one_iff]; rfl

/-! ## The places -/

theorem offNb_eq (e : BitVec 32) (he : e.toNat < 64) (k : ℕ) (hk : k ≤ 129) : offNb e (BitVec.ofNat 32 k) = ![k + e.toNat] := by
  have h : (Scalar.addi (BitVec.ofNat 32 k) e).toNat = k + e.toNat := by
    show (BitVec.ofNat 32 k + e).toNat = _
    rw [BitVec.toNat_add, BitVec.toNat_ofNat]; omega
  unfold offNb
  exact congrArg (fun n => (![n] : Fin 1 → ℕ)) h
theorem offBe_eq (b : ℕ) (hb : b < 320) : offBe (BitVec.ofNat 32 b) = ![min b 319] := by
  have h : ∀ b : Fin 320, (Scalar.indexCast (Scalar.minsi (BitVec.ofNat 32 b.val) 319#32)).toNat = min b.val 319 := by decide +kernel
  unfold offBe
  exact congrArg (fun n => (![n] : Fin 1 → ℕ)) (h ⟨b, hb⟩)
theorem offPrev_eq (b : ℕ) (hb : b < 320) : offPrev (BitVec.ofNat 32 b) = ![min (b - 1) 319] := by
  have h : ∀ b : Fin 320, (Scalar.indexCast (Scalar.maxsi (Scalar.subi (Scalar.minsi (BitVec.ofNat 32 b.val) 319#32) 1#32) 0#32)).toNat
      = min (b.val - 1) 319 := by decide +kernel
  unfold offPrev
  exact congrArg (fun n => (![n] : Fin 1 → ℕ)) (h ⟨b, hb⟩)

/-! ## What is assumed holds -/

theorem copyOk_of {s e : BitVec 32} (hs : s = 0#32 ∨ s = 1#32) (he : e.toNat < 64) : CopyOk s e where
  sem0 := by rcases hs with rfl | rfl <;> decide
  sem1 := by rcases hs with rfl | rfl <;> decide
  st0 := by rcases hs with rfl | rfl <;> decide
  st1 := by rcases hs with rfl | rfl <;> decide
  w := by
    intro a
    match a with
    | ⟨0, _⟩ => show e.toNat + 1 ≤ 64; omega
    | ⟨1, _⟩ => show 0 + 2048 ≤ 2048; omega
    | ⟨2, _⟩ => show 0 + 512 ≤ 512; omega

theorem inb_nb (e : BitVec 32) (he : e.toNat < 64) (k : ℕ) (hk : k ≤ 129) :
    ∀ a, offNb e (BitVec.ofNat 32 k) a + S1.size a ≤ S193.size a := by
  rw [offNb_eq e he k hk]
  intro a
  match a with
  | ⟨0, _⟩ => show k + e.toNat + 1 ≤ 193; omega

theorem chkE_of {e : BitVec 32} (he : e.toNat < 64) : chkE e := fun r => inb_nb e he _ (by have := r.isLt; omega)

theorem chkS_of {blk e s n : BitVec 32} (he : e.toNat < 64) (h : CopyOk s e) : chkS blk e s n :=
  ⟨fun _ => h.sem0, fun _ => h.st0, fun _ => h.w, fun _ => h.sem1, fun _ => h.st1, fun _ => inb_nb e he 1 (by decide)⟩

theorem chkN_of {blk e s x n e1 e0 : BitVec 32} (h : CopyOk s e)
    (h' : cNew blk n e1 e0 = 1#1 → cMore x = 1#1 → CopyOk (Scalar.subi 1#32 s) x) : chkN blk e s x n e1 e0 :=
  ⟨fun _ => h.sem0, fun _ => h.st0, fun _ => h.w, fun _ => h.sem1, fun _ => h.st1,
    fun a b => (h' a b).sem0, fun a b => (h' a b).st0, fun a b => (h' a b).w, fun a b => (h' a b).sem1, fun a b => (h' a b).st1,
    fun _ => h.st0, fun _ => h.st1⟩

/-- The other slot. -/
theorem other_slot {s : BitVec 32} (hs : s = 0#32 ∨ s = 1#32) : Scalar.subi 1#32 s = 0#32 ∨ Scalar.subi 1#32 s = 1#32 := by
  rcases hs with rfl | rfl
  · exact .inr (by decide)
  · exact .inl (by decide)
theorem other_other {s : BitVec 32} (hs : s = 0#32 ∨ s = 1#32) : Scalar.subi 1#32 (Scalar.subi 1#32 s) = s := by
  rcases hs with rfl | rfl <;> decide

end Cert.MoeUp

end
-- ==== Proof.Block.lean ====
module

public import proofs.«01_k».proof.Proof.Copies
public import proofs.«01_k».proof.Proof.Plan

/-! A block: the state the kernel keeps between two blocks, and what a block does to it and to its half of the output. -/

@[expose] public section

noncomputable section

namespace Cert.MoeUp

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

/-- What the kernel reads, and the shares it reads it at. -/
structure Data (F : FTy → Type) where
  be : S320.Idx → Elt F .i32
  code : S81920.Idx → Elt F .i32
  nb : S193.Idx → Elt F .i32
  hp : S65536x128.Idx → Elt F .i32
  wt : S8192x128.Idx → Elt F .f32
  wg : S64x2048x512.Idx → Elt F .f32
  wu : S64x2048x512.Idx → Elt F .f32
  qbe : PosShare TreeShare
  qcode : PosShare TreeShare
  qnb : PosShare TreeShare
  qhp : PosShare TreeShare
  qwt : PosShare TreeShare

/-- The place of a block's code. -/
def codeIdx (b r : ℕ) : S81920.Idx := ValueIdx.ix1 ⟨min b 319 * 256 + r % 256, by omega⟩

namespace Data
variable (D : Data F)

/-- How many blocks are in use. -/
def n : BitVec 32 := used D.nb
/-- A block's expert. -/
def e (b : ℕ) : BitVec 32 := beAt D.be b
/-- Its slot. -/
def s (b : ℕ) : BitVec 32 := slotOf D.nb (D.e b)
/-- The expert after it. -/
def x (b : ℕ) : BitVec 32 := nextOf D.nb (D.e b)
/-- The activations of a block's rows. -/
def rowsX (b : ℕ) : S256x2048.Idx → Elt F .bf16 := xRows D.hp (tokens D.code (codeIdx b))
/-- Their routing weights. -/
def rowsW (b : ℕ) : S256x128.Idx → Elt F .f32 := wRows D.wt (tokens D.code (codeIdx b))
/-- The weights of a block's expert. -/
def both (b : ℕ) : S2048x1024.Idx → Elt F .bf16 := bothRows D.wg D.wu (expert (D.e b))
/-- A block's rows of the result. -/
def value (b : ℕ) : FVec F S256x512 .bf16 :=
  blockVal (D.rowsX b) (D.both b) (laneWeight (D.e b) (D.rowsW b)) (rowMask (BitVec.ofNat 32 b) (finOf D.nb (D.e b)))

end Data

/-! ## The state -/

variable (c : Dev nD) (M : Mem) (D : Data F)

/-- The two arrays of weights hold what the data says. -/
def HomeAt : sProp 𝕄 :=
  iprop(∃ fg fu, ⌜M.wg.view.read (Elt F) fg = D.wg ∧ M.wu.view.read (Elt F) fu = D.wu⌝ ∗ Home (F := F) c M fg fu)

/-- A slot no copy is under way to. -/
def IdleAny (s : BitVec 32) : sProp 𝕄 := iprop(∃ h : SlotOk s, Idle (F := F) c M s h)

variable (fg : Buf (Elt F) (M.wg.view.loc (c : Thread nD τ))) (fu : Buf (Elt F) (M.wu.view.loc (c : Thread nD τ)))

/-- A slot an expert's weights are under way to. -/
def BusyAny (s e : BitVec 32) : sProp 𝕄 := iprop(∃ h : CopyOk s e, Busy c M fg fu s e h)

/-- No copy is under way. -/
def Quiet : sProp 𝕄 := iprop(IdleAny (F := F) c M 0#32 ∗ IdleAny (F := F) c M 1#32 ∗ Home c M fg fu)

/-- The copies' state after `b` blocks. -/
def CopySt (b : ℕ) : sProp 𝕄 :=
  if 0 < b ∧ b ≤ D.n.toNat ∧ More (D.x (b - 1)) then
    iprop(BusyAny c M fg fu (Scalar.subi 1#32 (D.s (b - 1))) (D.x (b - 1)) ∗ IdleAny (F := F) c M (D.s (b - 1)))
  else Quiet c M fg fu

/-- and once block `b` has begun. -/
def MidSt (b : ℕ) : sProp 𝕄 :=
  if b < D.n.toNat ∧ (b = 0 ∨ D.e b ≠ D.e (b - 1)) then
    iprop(BusyAny c M fg fu (D.s b) (D.e b) ∗ IdleAny (F := F) c M (Scalar.subi 1#32 (D.s b)))
  else CopySt c M D fg fu b

/-- The rounded weights after `b` blocks. -/
def WeightSt (b : ℕ) : sProp 𝕄 :=
  iprop(∃ G, ⌜0 < b → b ≤ D.n.toNat → G = D.both (b - 1)⌝ ∗ owns (c : Thread nD τ) M.gu fullShare G)

theorem idle_pair {s : BitVec 32} (hs : s = 0#32 ∨ s = 1#32) :
    (iprop(IdleAny (F := F) c M 0#32 ∗ IdleAny (F := F) c M 1#32) : sProp 𝕄) ⊢
      iprop(IdleAny (F := F) c M s ∗ IdleAny (F := F) c M (Scalar.subi 1#32 s)) := by
  rcases hs with rfl | rfl
  · exact .rfl
  · iintro ⟨H0, H1⟩
    isplitl [H1]; · iexact H1
    iexact H0

theorem pair_idle {s : BitVec 32} (hs : s = 0#32 ∨ s = 1#32) :
    (iprop(IdleAny (F := F) c M s ∗ IdleAny (F := F) c M (Scalar.subi 1#32 s)) : sProp 𝕄) ⊢
      iprop(IdleAny (F := F) c M 0#32 ∗ IdleAny (F := F) c M 1#32) := by
  rcases hs with rfl | rfl
  · exact .rfl
  · iintro ⟨H1, H0⟩
    isplitl [H0]; · iexact H0
    iexact H1

variable (P : Plan D.be D.nb)
include P

theorem slot_of (b : ℕ) : D.s b = 0#32 ∨ D.s b = 1#32 := P.slot _ (P.expert_lt b)

theorem copy_of (b : ℕ) : CopyOk (D.s b) (D.e b) := copyOk_of (slot_of D P b) (P.expert_lt b)

/-- The copies that may follow a block's are good ones. -/
theorem copy_next (b : ℕ) (hb : b < D.n.toNat) (hm : More (D.x b)) : CopyOk (Scalar.subi 1#32 (D.s b)) (D.x b) := by
  obtain ⟨j, hj, -⟩ := P.next (D.n.toNat - (b + 1)) b (by show _ = D.n.toNat; omega) hm
  refine copyOk_of (other_slot (slot_of D P b)) ?_
  show (nextOf D.nb (beAt D.be b)).toNat < 64
  rw [hj]
  exact P.expert_lt j

/-! ## The copies of a block -/

theorem first_spec (b : ℕ) (hb : b < 320) (h2 : chkS (BitVec.ofNat 32 b) (D.e b) (D.s b) D.n)
    {α : Type} {k : Unit → Pr F α} {Q : α → sProp 𝕄} :
    CopySt c M D fg fu b ⊢
      iprop((MidSt c M D fg fu b -∗ WP c (k ⟨⟩) Q) -∗ WP c (firstCopy M (BitVec.ofNat 32 b) (D.e b) (D.s b) D.n h2 k) Q) := by
  unfold firstCopy
  have hn : D.n.toNat ≤ 320 := P.used_le
  by_cases hf : cFirst (BitVec.ofNat 32 b) D.n = 1#1
  · rw [dif_pos hf]
    obtain ⟨hlt, rfl⟩ := (cFirst_iff b hb D.n hn).1 hf
    unfold CopySt MidSt Quiet
    rw [if_neg (by omega), if_pos ⟨hlt, .inl rfl⟩]
    iintro ⟨H0, H1, HH⟩ K
    ihave H : iprop(IdleAny (F := F) c M 0#32 ∗ IdleAny (F := F) c M 1#32) $$ [H0 H1]
    · iframe
    icases (idle_pair c M (slot_of D P 0)) $$ H with ⟨HS, HS'⟩
    unfold IdleAny
    icases HS with ⟨%hs, HS⟩
    iapply (wp_seq c)
    ihave H : iprop(Idle (F := F) c M (D.s 0) (h2.ok hf).slot ∗ Home c M fg fu) $$ [HS HH]
    · iframe
    iapply (copyStart_spec c M fg fu (D.s 0) (D.e 0) (h2.ok hf)) $$ H
    iintro HB
    iapply K
    isplitl [HB]
    · unfold BusyAny
      iexists (h2.ok hf)
      iexact HB
    · iexact HS'
  · rw [dif_neg hf]
    have e1 : CopySt c M D fg fu b ⊢ MidSt c M D fg fu b := by
      unfold MidSt
      by_cases hc : b < D.n.toNat ∧ (b = 0 ∨ D.e b ≠ D.e (b - 1))
      · rw [if_pos hc]
        have hb0 : b ≠ 0 := fun h => hf ((cFirst_iff b hb D.n hn).2 ⟨hc.1, h⟩)
        have hne : D.e (b - 1) ≠ D.e b := (hc.2.resolve_left hb0).symm
        obtain ⟨b, rfl⟩ : ∃ k, b = k + 1 := ⟨b - 1, by omega⟩
        have hstep := P.step b hc.1 hne
        have h1 : D.x b = D.e (b + 1) := hstep.1
        have h2 : D.s (b + 1) = Scalar.subi 1#32 (D.s b) := hstep.2
        have hm : More (D.x (b + 1 - 1)) := by
          show More (D.x b)
          rw [h1]
          exact Nat.lt_trans (P.expert_lt (b + 1)) (by decide)
        unfold CopySt
        rw [if_pos ⟨by omega, by omega, hm⟩]
        simp only [Nat.add_sub_cancel]
        rw [h1, h2, other_other (slot_of D P b)]
      · rw [if_neg hc]
    iintro H K
    iapply K
    iapply e1 $$ H

theorem new_spec (hg : M.wg.view.read (Elt F) fg = D.wg) (hu : M.wu.view.read (Elt F) fu = D.wu)
    (b : ℕ) (hb : b < 320) (h3 : chkN (BitVec.ofNat 32 b) (D.e b) (D.s b) (D.x b) D.n (D.e b) (D.e (b - 1)))
    {α : Type} {k : Unit → Pr F α} {Q : α → sProp 𝕄} :
    (iprop(MidSt c M D fg fu b ∗ WeightSt c M D b ∗ Owes (F := F) c) : sProp 𝕄) ⊢
      iprop((CopySt c M D fg fu (b + 1) ∗ WeightSt c M D (b + 1) ∗ Owes (F := F) c -∗ WP c (k ⟨⟩) Q) -∗
        WP c (newExpert M (BitVec.ofNat 32 b) (D.e b) (D.s b) (D.x b) D.n (D.e b) (D.e (b - 1)) h3 k) Q) := by
  unfold newExpert nextCopy
  have hn : D.n.toNat ≤ 320 := P.used_le
  by_cases hc : cNew (BitVec.ofNat 32 b) D.n (D.e b) (D.e (b - 1)) = 1#1
  · rw [dif_pos hc]
    have hc' := (cNew_iff b hb D.n hn _ _).1 hc
    unfold MidSt WeightSt
    rw [if_pos hc']
    iintro ⟨⟨HB, HI⟩, ⟨%G, -, HG⟩, HO⟩ K
    unfold BusyAny
    icases HB with ⟨%hB, HB⟩
    iapply (wp_seq c)
    ihave H : iprop(Busy c M fg fu (D.s b) (D.e b) (h3.ok hc) ∗ Owes (F := F) c) $$ [HB HO]
    · iframe
    iapply (copyWait_spec c M fg fu (D.s b) (D.e b) (h3.ok hc)) $$ H
    iintro ⟨HL, HH, HO⟩
    rw [hg, hu]
    ihave HLG : iprop(Landed c M (D.s b) (h3.ok hc).slot (expertRows D.wg (expert (D.e b))) (expertRows D.wu (expert (D.e b)))
        ∗ owns (c : Thread nD τ) M.gu fullShare G) $$ [HL HG]
    · iframe
    by_cases hm : cMore (D.x b) = 1#1
    · rw [dif_pos hm]
      unfold IdleAny
      icases HI with ⟨%hI, HI⟩
      ihave H : iprop(Idle (F := F) c M (Scalar.subi 1#32 (D.s b)) (h3.ok' hc hm).slot ∗ Home c M fg fu) $$ [HI HH]
      · iframe
      iapply (wp_seq c)
      iapply (copyStart_spec c M fg fu (Scalar.subi 1#32 (D.s b)) (D.x b) (h3.ok' hc hm)) $$ H
      iintro HB
      iapply (wp_seq c)
      iapply (castWeights_spec c M (D.s b) (D.e b) (h3.ok hc) D.wg D.wu G) $$ HLG
      iintro ⟨HI, HG⟩
      iapply K
      isplitl [HB HI]
      · unfold CopySt BusyAny IdleAny
        rw [if_pos ⟨by omega, by omega, (cMore_iff _).1 hm⟩]
        simp only [Nat.add_sub_cancel]
        isplitl [HB]
        · iexists (h3.ok' hc hm)
          iexact HB
        · iexists (h3.ok hc).slot
          iexact HI
      isplitl [HG]
      · iexists (D.both b)
        isplitr
        · ipureintro; exact fun _ _ => rfl
        · iexact HG
      · iexact HO
    · rw [dif_neg hm]
      iapply (wp_seq c)
      iapply (castWeights_spec c M (D.s b) (D.e b) (h3.ok hc) D.wg D.wu G) $$ HLG
      iintro ⟨HJ, HG⟩
      iapply K
      isplitl [HJ HI HH]
      · unfold CopySt Quiet
        rw [if_neg (fun h => hm ((cMore_iff _).2 h.2.2))]
        ihave H : iprop(IdleAny (F := F) c M (D.s b) ∗ IdleAny (F := F) c M (Scalar.subi 1#32 (D.s b))) $$ [HJ HI]
        · isplitl [HJ]
          · unfold IdleAny
            iexists (h3.ok hc).slot
            iexact HJ
          · iexact HI
        icases (pair_idle c M (slot_of D P b)) $$ H with ⟨H0, H1⟩
        iframe
      isplitl [HG]
      · iexists (D.both b)
        isplitr
        · ipureintro; exact fun _ _ => rfl
        · iexact HG
      · iexact HO
  · rw [dif_neg hc]
    have hc' : ¬ (b < D.n.toNat ∧ (b = 0 ∨ D.e b ≠ D.e (b - 1))) := fun h => hc ((cNew_iff b hb D.n hn _ _).2 h)
    unfold MidSt
    rw [if_neg hc']
    iintro ⟨HC, HW, HO⟩ K
    iapply K
    by_cases hlt : b < D.n.toNat
    · have hb0 : b ≠ 0 := fun h => hc' ⟨hlt, .inl h⟩
      have he : D.e b = D.e (b - 1) := Classical.not_not.1 fun h => hc' ⟨hlt, .inr h⟩
      have hx : D.x b = D.x (b - 1) := congrArg (nextOf D.nb) he
      have hs : D.s b = D.s (b - 1) := congrArg (slotOf D.nb) he
      have hb' : D.both b = D.both (b - 1) := congrArg (fun e => bothRows D.wg D.wu (expert e)) he
      have e1 : CopySt c M D fg fu (b + 1) = CopySt c M D fg fu b := by
        unfold CopySt
        simp only [Nat.add_sub_cancel]
        rw [hx, hs]
        by_cases hm : More (D.x (b - 1))
        · rw [if_pos ⟨by omega, by omega, hm⟩, if_pos ⟨by omega, by omega, hm⟩]
        · rw [if_neg (fun h => hm h.2.2), if_neg (fun h => hm h.2.2)]
      rw [e1]
      isplitl [HC]; · iexact HC
      isplitl [HW]
      · unfold WeightSt
        icases HW with ⟨%G, %hG, HG⟩
        iexists G
        isplitr
        · ipureintro; exact fun _ _ => (hG (by omega) (by omega)).trans hb'.symm
        · iexact HG
      · iexact HO
    · isplitl [HC]
      · have e1 : CopySt c M D fg fu b ⊢ CopySt c M D fg fu (b + 1) := by
          unfold CopySt
          rw [if_neg (c := 0 < b + 1 ∧ _) (by omega), if_neg]
          rintro ⟨h0, h1, h2⟩
          exact P.last (b - 1) (by show _ = D.n.toNat; omega) h2
        iapply e1 $$ HC
      isplitl [HW]
      · unfold WeightSt
        icases HW with ⟨%G, -, HG⟩
        iexists G
        isplitr
        · ipureintro; exact fun _ h => absurd h (by omega)
        · iexact HG
      · iexact HO

omit P

/-! ## A block -/

/-- The tables and the two arrays the kernel only reads. -/
def ReadSt : sProp 𝕄 :=
  iprop(reads c M D.code D.hp D.wt D.qcode D.qhp D.qwt ∗ owns (c : Thread nD τ) M.be D.qbe D.be ∗ owns (c : Thread nD τ) M.nb D.qnb D.nb)

/-- The buffers whose contents no longer matter. -/
def FreeSt : sProp 𝕄 :=
  iprop((∃ G : S2048x128.Idx → Elt F .i32, owns (c : Thread nD τ) M.xg fullShare G)
    ∗ (∃ X : S256x2048.Idx → Elt F .bf16, owns (c : Thread nD τ) M.xn fullShare X)
    ∗ (∃ W : S256x128.Idx → Elt F .f32, owns (c : Thread nD τ) M.wn fullShare W))

/-- The rows gathered for block `b`, once they are. -/
def RowSt (g : Prop) (b : ℕ) : sProp 𝕄 :=
  iprop(∃ X W, ⌜g → b < D.n.toNat → X = D.rowsX b ∧ W = D.rowsW b⌝
    ∗ owns (c : Thread nD τ) M.xc fullShare X ∗ owns (c : Thread nD τ) M.wc fullShare W)

/-- Everything the kernel holds between two blocks but the output. -/
def St (g : Prop) (b : ℕ) : sProp 𝕄 :=
  iprop(ReadSt c M D ∗ FreeSt (F := F) c M ∗ RowSt c M D g b ∗ WeightSt c M D b ∗ CopySt c M D fg fu b ∗ Owes (F := F) c)

/-- The output once block `b` has written the rows from `o`. -/
def outAfter (b o : ℕ) (ho : OutOk o) (O : S512x512.Idx → Elt F .bf16) : S512x512.Idx → Elt F .bf16 :=
  if b < D.n.toNat then VecWindow.put O ![o, 0] S256x512.size (D.value b) else O

theorem putOut_spec (o : ℕ) (ho : OutOk o) (v : FVec F S256x512 .bf16) (O : S512x512.Idx → Elt F .bf16) {Q : PUnit → sProp 𝕄} :
    (owns (c : Thread nD τ) M.out fullShare O : sProp 𝕄) ⊢
      iprop((owns (c : Thread nD τ) M.out fullShare (VecWindow.put O ![o, 0] S256x512.size v) -∗ Q ⟨⟩) -∗ WP c (putOut M o ho v) Q) := by
  unfold putOut
  iintro H K
  iapply (wp_seq c)
  iapply (own_load c) $$ H
  iintro H
  iapply (own_store c) $$ H
  iintro H
  iapply K
  iexact H

theorem nb_idx (e : BitVec 32) (he : e.toNat < 64) (k : ℕ) (hk : k ≤ 129) :
    ∀ a, ((ValueIdx.ix1 ⟨(k + e.toNat) % 193, Nat.mod_lt _ (by decide)⟩ : S193.Idx) a).val = offNb e (BitVec.ofNat 32 k) a := by
  rw [offNb_eq e he k hk]
  intro a
  match a with
  | ⟨0, _⟩ => exact Nat.mod_eq_of_lt (by omega)

include P

theorem useBlock_spec (b : ℕ) (hb : b < 320) (hlt : b < D.n.toNat) (hblk : IsBlk (BitVec.ofNat 32 b))
    (hc : cUse (BitVec.ofNat 32 b) D.n = 1#1) (hend : ∀ a, (offNb (D.e b) 1#32) a + S1.size a ≤ S193.size a)
    (o : ℕ) (ho : OutOk o) (O : S512x512.Idx → Elt F .bf16) {Q : PUnit → sProp 𝕄} :
    (iprop(ReadSt c M D ∗ FreeSt (F := F) c M ∗ RowSt c M D True b ∗ WeightSt c M D (b + 1) ∗ owns (c : Thread nD τ) M.out fullShare O) : sProp 𝕄) ⊢
      iprop((ReadSt c M.swap D ∗ FreeSt (F := F) c M.swap ∗ RowSt c M.swap D True (b + 1) ∗ WeightSt c M.swap D (b + 1)
          ∗ owns (c : Thread nD τ) M.out fullShare (VecWindow.put O ![o, 0] S256x512.size (D.value b)) -∗ Q ⟨⟩) -∗
        WP c (useBlock M (BitVec.ofNat 32 b) hblk (BitVec.ofNat 32 b) (D.e b) D.n hc hend o ho) Q) := by
  unfold ReadSt FreeSt RowSt WeightSt useBlock
  iintro ⟨⟨HR, HE, HN⟩, ⟨⟨%G, HG⟩, ⟨%X', HX'⟩, ⟨%W', HW'⟩⟩, ⟨%X, %W, %hXW, HX, HW⟩, ⟨%U, %hU, HU⟩, HO⟩ K
  obtain ⟨rfl, rfl⟩ := hXW trivial hlt
  obtain rfl := hU (by omega) hlt
  iapply (wp_seq c)
  ihave H : iprop(reads c M D.code D.hp D.wt D.qcode D.qhp D.qwt ∗ owns (c : Thread nD τ) M.xg fullShare G
      ∗ owns (c : Thread nD τ) M.xn fullShare X' ∗ owns (c : Thread nD τ) M.wn fullShare W') $$ [HR HG HX' HW']
  · iframe
  iapply (gather_spec c M M.wn D.code D.hp D.wt D.qcode D.qhp D.qwt (offCode (BitVec.ofNat 32 b)) (offCode_inb hblk) (codeIdx (b + 1))
    (fun r hr a => by
      rw [offCode_eq ⟨b, hb⟩ r hr]
      match a with
      | ⟨0, _⟩ => show min (b + 1) 319 * 256 + r % 256 = _; rw [Nat.mod_eq_of_lt hr]; rfl) M.xn M.hxn (cUse (BitVec.ofNat 32 b) D.n) hc G X' W') $$ H
  iintro ⟨HR, HG, HX', HW'⟩
  iapply (wp_seq c)
  iapply (own_load c) $$ HW
  iintro HW
  iapply (wp_seq c)
  iapply (own_word c _ (nb_idx (D.e b) (P.expert_lt b) 1 (by decide))) $$ HN
  iintro HN
  iapply (wp_seq c)
  iapply (own_load c) $$ HX
  iintro HX
  iapply (wp_seq c)
  iapply (own_load c) $$ HU
  iintro HU
  have ex : VecWindow.window (D.rowsX b) ![0, 0] S256x2048.size inb_S256x2048_S256x2048_0_0 = D.rowsX b := window_all _ _ _
  have ew : VecWindow.window (D.rowsW b) ![0, 0] S256x128.size inb_S256x128_S256x128_0_0 = D.rowsW b := window_all _ _ _
  have eu : VecWindow.window (D.both b) ![0, 0] S2048x1024.size inb_S2048x1024_S2048x1024_0_0 = D.both b := window_all _ _ _
  have ev : blockVal (VecWindow.window (D.rowsX b) ![0, 0] S256x2048.size inb_S256x2048_S256x2048_0_0)
      (VecWindow.window (D.both b) ![0, 0] S2048x1024.size inb_S2048x1024_S2048x1024_0_0)
      (laneWeight (D.e b) (VecWindow.window (D.rowsW b) ![0, 0] S256x128.size inb_S256x128_S256x128_0_0))
      (rowMask (BitVec.ofNat 32 b) (finOf D.nb (D.e b))) = D.value b := by
    rw [ex, ew, eu]; rfl
  iapply (putOut_spec c M o ho) $$ HO
  iintro HO
  rw [← ev]
  iapply K
  isplitl [HR HE HN]
  · isplitl [HR]; · iexact HR
    isplitl [HE]; · iexact HE
    iexact HN
  isplitl [HG HX HW]
  · isplitl [HG]
    · iexists _; iexact HG
    isplitl [HX]
    · iexists _; iexact HX
    · iexists _; iexact HW
  isplitl [HX' HW']
  · iexists _, _
    isplitr
    · ipureintro; exact fun _ _ => ⟨rfl, rfl⟩
    isplitl [HX']; · iexact HX'
    iexact HW'
  isplitl [HU]
  · iexists _
    isplitr
    · ipureintro; exact fun _ _ => rfl
    · iexact HU
  · iexact HO

theorem useIf_spec (b : ℕ) (hb : b < 320) (hblk : IsBlk (BitVec.ofNat 32 b)) (hs : chkS (BitVec.ofNat 32 b) (D.e b) (D.s b) D.n)
    (o : ℕ) (ho : OutOk o) (O : S512x512.Idx → Elt F .bf16) {α : Type} {k : Unit → Pr F α} {Q : α → sProp 𝕄} :
    (iprop(ReadSt c M D ∗ FreeSt (F := F) c M ∗ RowSt c M D True b ∗ WeightSt c M D (b + 1) ∗ owns (c : Thread nD τ) M.out fullShare O) : sProp 𝕄) ⊢
      iprop((ReadSt c M.swap D ∗ FreeSt (F := F) c M.swap ∗ RowSt c M.swap D True (b + 1) ∗ WeightSt c M.swap D (b + 1)
          ∗ owns (c : Thread nD τ) M.out fullShare (outAfter D b o ho O) -∗ WP c (k ⟨⟩) Q) -∗
        WP c (useIf M (BitVec.ofNat 32 b) hblk (BitVec.ofNat 32 b) (D.e b) (D.s b) D.n hs o ho k) Q) := by
  have hn : D.n.toNat ≤ 320 := P.used_le
  unfold useIf
  by_cases hc : cUse (BitVec.ofNat 32 b) D.n = 1#1
  · have hlt := (cUse_iff b hb D.n hn).1 hc
    rw [dif_pos hc]
    iintro H K
    iapply (wp_seq c)
    iapply (useBlock_spec c M D P b hb hlt hblk hc (hs.2.2.2.2.2 hc) o ho O) $$ H
    unfold outAfter
    rw [if_pos hlt]
    iexact K
  · have hlt : ¬ b < D.n.toNat := fun h => hc ((cUse_iff b hb D.n hn).2 h)
    rw [dif_neg hc]
    unfold outAfter FreeSt RowSt
    rw [if_neg hlt]
    iintro ⟨HR, ⟨HG, ⟨%X', HX'⟩, ⟨%W', HW'⟩⟩, ⟨%X, %W, -, HX, HW2⟩, HW, HT⟩ K
    iapply K
    isplitl [HR]; · iexact HR
    isplitl [HG HX HW2]
    · isplitl [HG]; · iexact HG
      isplitl [HX]
      · iexists _; iexact HX
      · iexists _; iexact HW2
    isplitl [HX' HW']
    · iexists X', W'
      isplitr
      · ipureintro; exact fun _ h => absurd h (by omega)
      isplitl [HX']; · iexact HX'
      iexact HW'
    isplitl [HW]; · iexact HW
    iexact HT

/-- What block `b` does. -/
theorem block_spec (hg : M.wg.view.read (Elt F) fg = D.wg) (hu : M.wu.view.read (Elt F) fu = D.wu)
    (b : ℕ) (hb : b < 320) (blk blk' : BitVec 32) (hblk : IsBlk blk) (h1 : blk = BitVec.ofNat 32 b) (h2 : blk' = BitVec.ofNat 32 b)
    (o : ℕ) (ho : OutOk o) (O : S512x512.Idx → Elt F .bf16) {α : Type} {k : BitVec 32 → Pr F α} {Q : α → sProp 𝕄} :
    (iprop(St c M D fg fu True b ∗ owns (c : Thread nD τ) M.out fullShare O) : sProp 𝕄) ⊢
      iprop((St c M.swap D fg fu True (b + 1) ∗ owns (c : Thread nD τ) M.out fullShare (outAfter D b o ho O) -∗ WP c (k D.n) Q) -∗
        WP c (block M blk hblk blk' o ho k) Q) := by
  subst h1 h2
  have he := P.expert_lt b
  have hs := chkS_of (blk := BitVec.ofNat 32 b) (n := D.n) he (copy_of D P b)
  have hn : D.n.toNat ≤ 320 := P.used_le
  have h3 : chkN (BitVec.ofNat 32 b) (D.e b) (D.s b) (D.x b) D.n (D.e b) (D.e (b - 1)) :=
    chkN_of (copy_of D P b) fun h h' => copy_next D P b ((cNew_iff b hb D.n hn _ _).1 h).1 ((cMore_iff _).1 h')
  unfold St block
  iintro ⟨⟨HR, HF, HX, HW, HC, HO⟩, HT⟩ K
  unfold ReadSt
  icases HR with ⟨HR, HE, HN⟩
  iapply (wp_seq c)
  iapply (own_word c (ValueIdx.ix1 ⟨min b 319, by omega⟩ : S320.Idx) (by
    rw [offBe_eq b hb]
    intro a
    match a with
    | ⟨0, _⟩ => rfl)) $$ HE
  iintro HE
  iapply (wp_seq c)
  iapply (own_assume c (chkE_of he))
  iapply (wp_seq c)
  iapply (own_word c _ (nb_idx (D.e b) he 65 (by decide))) $$ HN
  iintro HN
  iapply (wp_seq c)
  iapply (own_word c _ (nb_idx (D.e b) he 129 (by decide))) $$ HN
  iintro HN
  iapply (wp_seq c)
  iapply (own_word c (ValueIdx.ix1 ⟨0, by decide⟩ : S193.Idx) (by
    intro a
    match a with
    | ⟨0, _⟩ => rfl)) $$ HN
  iintro HN
  iapply (wp_seq c)
  iapply (own_assume c hs)
  iapply (first_spec c M D fg fu P b hb hs) $$ HC
  iintro HC
  iapply (wp_seq c)
  iapply (own_word c (ValueIdx.ix1 ⟨min b 319, by omega⟩ : S320.Idx) (by
    rw [offBe_eq b hb]
    intro a
    match a with
    | ⟨0, _⟩ => rfl)) $$ HE
  iintro HE
  iapply (wp_seq c)
  iapply (own_word c (ValueIdx.ix1 ⟨min (b - 1) 319, by omega⟩ : S320.Idx) (by
    rw [offPrev_eq b hb]
    intro a
    match a with
    | ⟨0, _⟩ => rfl)) $$ HE
  iintro HE
  iapply (wp_seq c)
  iapply (own_assume c h3)
  ihave H : iprop(MidSt c M D fg fu b ∗ WeightSt c M D b ∗ Owes (F := F) c) $$ [HC HW HO]
  · iframe
  iapply (new_spec c M D fg fu P hg hu b hb h3) $$ H
  iintro ⟨HC, HW, HO⟩
  ihave H : iprop(ReadSt c M D ∗ FreeSt (F := F) c M ∗ RowSt c M D True b ∗ WeightSt c M D (b + 1) ∗ owns (c : Thread nD τ) M.out fullShare O)
    $$ [HR HE HN HF HX HW HT]
  · unfold ReadSt
    iframe
  iapply (useIf_spec c M D P b hb hblk hs o ho O) $$ H
  iintro ⟨HR, HF, HX, HW, HT⟩
  iapply K
  isplitr [HT]
  · isplitl [HR]
    · unfold ReadSt
      iexact HR
    iframe
    iexact HC
  · iexact HT

end Cert.MoeUp

end
-- ==== Proof.Step.lean ====
module

public import proofs.«01_k».proof.Proof.Block

/-! A grid step: two blocks, and the tile of the output they fill. -/

@[expose] public section

noncomputable section

namespace Cert.MoeUp

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (M : Mem) (D : Data F)

namespace Data

/-- A block's rows of the output: zeros where it is not in use. -/
def rows (b : ℕ) : S256x512.Idx → Elt F .bf16 :=
  if b < D.n.toNat then D.value b else broadcast S256x512 (Scalar.ofBits .bf16 0x0000#16 : F .bf16)

/-- A step's tile. -/
def tile (t : ℕ) : S512x512.Idx → Elt F .bf16 :=
  fun y => D.rows (2 * t + (y 0).val / 256) (ValueIdx.ix2 ⟨(y 0).val % 256, Nat.mod_lt _ (by decide)⟩ (y 1))

end Data

theorem put_tile (t : ℕ) (O : S512x512.Idx → Elt F .bf16) :
    VecWindow.put (VecWindow.put O ![0, 0] S256x512.size (D.rows (2 * t))) ![256, 0] S256x512.size (D.rows (2 * t + 1)) = D.tile t := by
  funext y
  have h0 : (y 0).val < 512 := (y 0).isLt
  have h1 : (y 1).val < 512 := (y 1).isLt
  unfold VecWindow.put Data.tile
  by_cases hy : (y 0).val < 256
  · rw [dif_neg (fun h => absurd (h 0).1 (Nat.not_le.mpr hy)), dif_pos (fun a => by
      match a with
      | ⟨0, _⟩ => exact ⟨Nat.zero_le _, by show (y 0).val < 0 + 256; omega⟩
      | ⟨1, _⟩ => exact ⟨Nat.zero_le _, by show (y 1).val < 0 + 512; omega⟩)]
    have e0 : (y 0).val / 256 = 0 := by omega
    rw [e0]
    refine congrArg (D.rows (2 * t)) (funext fun a => Fin.ext ?_)
    match a with
    | ⟨0, _⟩ => show (y 0).val - 0 = (y 0).val % 256; omega
    | ⟨1, _⟩ => show (y 1).val - 0 = (y 1).val; omega
  · rw [dif_pos (fun a => by
      match a with
      | ⟨0, _⟩ => exact ⟨Nat.le_of_not_lt hy, by show (y 0).val < 256 + 256; omega⟩
      | ⟨1, _⟩ => exact ⟨Nat.zero_le _, by show (y 1).val < 0 + 512; omega⟩)]
    have e0 : (y 0).val / 256 = 1 := by omega
    rw [e0]
    refine congrArg (D.rows (2 * t + 1)) (funext fun a => Fin.ext ?_)
    match a with
    | ⟨0, _⟩ => show (y 0).val - 256 = (y 0).val % 256; omega
    | ⟨1, _⟩ => show (y 1).val - 0 = (y 1).val; omega

variable (P : Plan D.be D.nb)
include P

theorem zeroIf_spec (b : ℕ) (hb : b < 320) (blk : BitVec 32) (h1 : blk = BitVec.ofNat 32 b) (o : ℕ) (ho : OutOk o)
    (O : S512x512.Idx → Elt F .bf16) {α : Type} {k : Unit → Pr F α} {Q : α → sProp 𝕄} :
    (owns (c : Thread nD τ) M.out fullShare (outAfter D b o ho O) : sProp 𝕄) ⊢
      iprop((owns (c : Thread nD τ) M.out fullShare (VecWindow.put O ![o, 0] S256x512.size (D.rows b)) -∗ WP c (k ⟨⟩) Q) -∗
        WP c (zeroIf M blk D.n o ho k) Q) := by
  subst h1
  have hn : D.n.toNat ≤ 320 := P.used_le
  unfold zeroIf outAfter Data.rows
  by_cases hc : b < D.n.toNat
  · rw [if_neg (fun h => (cIdle_iff b hb D.n hn).1 h hc), if_pos hc, if_pos hc]
    iintro H K
    iapply K
    iexact H
  · rw [if_pos ((cIdle_iff b hb D.n hn).2 hc), if_neg hc, if_neg hc]
    iintro H K
    iapply (wp_seq c)
    iapply (putOut_spec c M o ho) $$ H
    iintro H
    iapply K
    iexact H

omit P

theorem step0_iff (i : grid0.Coords) : cStep0 i = 1#1 ↔ (i 0).val = 0 := by
  have h : ∀ j : Fin 160, Scalar.cmpi .ne (Scalar.extui (Scalar.cmpi .eq (BitVec.ofNat 32 j.val) 0#32) : BitVec 32) 0#32 = 1#1 ↔ j.val = 0 := by
    decide +kernel
  exact h (i 0)

theorem gatherIf_spec (i : grid0.Coords) (t : ℕ) (ht : (i 0).val = t) {α : Type} {k : Unit → Pr F α} {Q : α → sProp 𝕄} :
    (iprop(ReadSt c M D ∗ FreeSt (F := F) c M ∗ RowSt c M D (0 < t) (2 * t)) : sProp 𝕄) ⊢
      iprop((ReadSt c M D ∗ FreeSt (F := F) c M ∗ RowSt c M D True (2 * t) -∗ WP c (k ⟨⟩) Q) -∗ WP c (gatherIf M i k) Q) := by
  unfold gatherIf
  by_cases hc : cStep0 i = 1#1
  · obtain rfl : t = 0 := ht.symm.trans ((step0_iff i).1 hc)
    rw [dif_pos hc]
    unfold ReadSt FreeSt RowSt
    iintro ⟨⟨HR, HEN⟩, ⟨⟨%G, HG⟩, HXW⟩, ⟨%X, %W, -, HX, HW⟩⟩ K
    iapply (wp_seq c)
    ihave H : iprop(reads c M D.code D.hp D.wt D.qcode D.qhp D.qwt ∗ owns (c : Thread nD τ) M.xg fullShare G
        ∗ owns (c : Thread nD τ) M.xc fullShare X ∗ owns (c : Thread nD τ) M.wc fullShare W) $$ [HR HG HX HW]
    · iframe
    unfold gatherFirst
    iapply (gather_spec c M M.wc D.code D.hp D.wt D.qcode D.qhp D.qwt (fun r => ![r]) off_first (codeIdx 0)
      (fun r hr a => by
        match a with
        | ⟨0, _⟩ => show min 0 319 * 256 + r % 256 = r; rw [Nat.mod_eq_of_lt hr]; omega) M.xc M.hxc (cStep0 i) hc G X W) $$ H
    iintro ⟨HR, HG, HX, HW⟩
    iapply K
    isplitl [HR HEN]
    · isplitl [HR]; · iexact HR
      iexact HEN
    isplitl [HG HXW]
    · isplitl [HG]
      · iexists _; iexact HG
      · iexact HXW
    · iexists (D.rowsX 0), (D.rowsW 0)
      isplitr
      · ipureintro; exact fun _ _ => ⟨rfl, rfl⟩
      isplitl [HX]; · iexact HX
      iexact HW
  · rw [dif_neg hc]
    have h0 : 0 < t := Nat.pos_of_ne_zero fun h => hc ((step0_iff i).2 (ht.trans h))
    have e : RowSt c M D (0 < t) (2 * t) = RowSt c M D True (2 * t) := by
      rw [show (0 < t) = True from propext ⟨fun _ => trivial, fun _ => h0⟩]
    rw [e]
    iintro H K
    iapply K
    iexact H

include P

/-- What step `t` does. -/
theorem body_spec (fg : Buf (Elt F) (M.wg.view.loc (c : Thread nD τ))) (fu : Buf (Elt F) (M.wu.view.loc (c : Thread nD τ)))
    (hg : M.wg.view.read (Elt F) fg = D.wg) (hu : M.wu.view.read (Elt F) fu = D.wu)
    (i : grid0.Coords) (t : ℕ) (ht : (i 0).val = t) (O : S512x512.Idx → Elt F .bf16) {Q : PUnit → sProp 𝕄} :
    (iprop(St c M D fg fu (0 < t) (2 * t) ∗ owns (c : Thread nD τ) M.out fullShare O) : sProp 𝕄) ⊢
      iprop((St c M D fg fu True (2 * t + 2) ∗ owns (c : Thread nD τ) M.out fullShare (D.tile t) -∗ Q ⟨⟩) -∗ WP c (body M i) Q) := by
  have hlt : t < 160 := ht ▸ (i 0).isLt
  have hA : blkA i = BitVec.ofNat 32 (2 * t) := by rw [← ht]; exact blkA_eq (i 0)
  have hB : blkB i = BitVec.ofNat 32 (2 * t + 1) := by rw [← ht]; exact blkB_eq (i 0)
  have hB' : Scalar.addi (Scalar.muli 2#32 (BitVec.ofNat 32 (i 0).val)) 1#32 = BitVec.ofNat 32 (2 * t + 1) := hB
  unfold body partA partB
  iintro ⟨HS, HT⟩ K
  unfold St
  icases HS with ⟨HR, HF, HX, HW, HC, HO⟩
  iapply (wp_seq c)
  ihave H : iprop(ReadSt c M D ∗ FreeSt (F := F) c M ∗ RowSt c M D (0 < t) (2 * t)) $$ [HR HF HX]
  · iframe
  iapply (gatherIf_spec c M D i t ht) $$ H
  iintro ⟨HR, HF, HX⟩
  ihave H : iprop(St c M D fg fu True (2 * t) ∗ owns (c : Thread nD τ) M.out fullShare O) $$ [HR HF HX HW HC HO HT]
  · unfold St
    iframe
  iapply (block_spec c M D fg fu P hg hu (2 * t) (by omega) _ _ (isBlkA i) hA hA 0 outOk0 O) $$ H
  iintro ⟨HS, HT⟩
  iapply (wp_done c)
  iapply (wp_seq c)
  iapply (zeroIf_spec c M D P (2 * t) (by omega) _ hA 0 outOk0 O) $$ HT
  iintro HT
  ihave H : iprop(St c M.swap D fg fu True (2 * t + 1)
      ∗ owns (c : Thread nD τ) M.swap.out fullShare (VecWindow.put O ![0, 0] S256x512.size (D.rows (2 * t)))) $$ [HS HT]
  · isplitl [HS]; · iexact HS
    iexact HT
  iapply (block_spec c M.swap D fg fu P hg hu (2 * t + 1) (by omega) _ _ (isBlkB i) hB hB' 256 outOk256 _) $$ H
  iintro ⟨HS, HT⟩
  iapply (wp_done c)
  ihave HT : owns (c : Thread nD τ) M.out fullShare (outAfter D (2 * t + 1) 256 outOk256 (VecWindow.put O ![0, 0] S256x512.size (D.rows (2 * t)))) $$ [HT]
  · iexact HT
  iapply (zeroIf_spec c M D P (2 * t + 1) (by omega) _ hB 256 outOk256 (VecWindow.put O ![0, 0] S256x512.size (D.rows (2 * t)))) $$ HT
  iintro HT
  iapply (wp_done c)
  iapply K
  isplitl [HS]
  · unfold St
    iexact HS
  · rw [put_tile]
    iexact HT

end Cert.MoeUp

end
-- ==== Proof.Planes.lean ====
module

public import proofs.«01_k».proof.Proof.Step
public import proofs.«01_k».proof.Proof.Gen.KernelIdeal.Launch
public import Idealize.ShloMosaic.Lib.Ring

/-! The staging buffer is its four planes, two to a slot. -/

@[expose] public section

noncomputable section

namespace Cert.MoeUp

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's buffers, by the blocks it is handed at a step. -/
def kmem (hp : Memref sig .tc .vmem S65536x128 .i32) (wt : Memref sig .tc .vmem S8192x128 .f32)
    (out : Memref sig .tc .vmem S512x512 .bf16) (hout : out.IsWhole) : Mem :=
  ⟨Memref.whole main_arg0, Memref.whole main_arg1, Memref.whole main_arg2, hp, wt, Memref.whole main_arg5, Memref.whole main_arg6, out, hout,
    Memref.whole cc0_scratch0, Memref.whole cc0_scratch1, Memref.isWhole_whole _, Memref.whole cc0_scratch2, Memref.isWhole_whole _,
    Memref.whole cc0_scratch3, Memref.whole cc0_scratch4, Memref.whole cc0_scratch5, Memref.isWhole_whole _, Memref.whole cc0_scratch6, cc0_scratch7⟩

/-- The buffers with the first of each block's. -/
def kmem0 : Mem := kmem (spec0_0.stage 0) (spec0_1.stage 0) (spec0_2.stage 0) (hstage0_2 ((0 : Fin spec0_2.nbuf).cast nbuf0_2))

/-- Where a plane begins. -/
def planeOff (b : Fin 4) : Fin 4 → ℕ := ![b.val / 2, b.val % 2, 0, 0]

theorem planeOk (b : Fin 4) : ∀ a, planeOff b a + S1x1x2048x512.size a ≤ S2x2x2048x512.size a := by
  revert b; decide

/-- A plane's elements. -/
def planeSet (b : Fin 4) : Finset S2x2x2048x512.Idx := (stOf kmem0 (planeOff b) (planeOk b)).view.set

theorem mem_planeSet (b : Fin 4) (x : S2x2x2048x512.Idx) : x ∈ planeSet b ↔ (x 0).val = b.val / 2 ∧ (x 1).val = b.val % 2 := by
  unfold planeSet stOf
  rw [show ((kmem0.st.slice (Rect.unit (s := S2x2x2048x512) (planeOff b) S1x1x2048x512.size (planeOk b)) (fun _ => rfl)).squeeze S2048x512 squeezes_S1x1x2048x512_S2048x512).view.set
      = ((View.whole cc0_scratch6).slice (Rect.unit (s := S2x2x2048x512) (planeOff b) S1x1x2048x512.size (planeOk b))).set from View.set_reshape _ _,
    View.set_slice_whole]
  refine Rect.mem_set_unit.trans ⟨fun h => ?_, fun h a => ?_⟩
  · have h0 := h 0
    have h1 := h 1
    have e0 : planeOff b 0 = b.val / 2 := rfl
    have e1 : planeOff b 1 = b.val % 2 := rfl
    have s0 : S1x1x2048x512.size 0 = 1 := rfl
    have s1 : S1x1x2048x512.size 1 = 1 := rfl
    rw [e0, s0] at h0
    rw [e1, s1] at h1
    exact ⟨by omega, by omega⟩
  · match a with
    | ⟨0, _⟩ => show b.val / 2 ≤ (x 0).val ∧ (x 0).val < b.val / 2 + 1; omega
    | ⟨1, _⟩ => show b.val % 2 ≤ (x 1).val ∧ (x 1).val < b.val % 2 + 1; omega
    | ⟨2, _⟩ => have := (x 2).isLt; exact ⟨Nat.zero_le _, by show (x 2).val < 0 + 2048; simpa using this⟩
    | ⟨3, _⟩ => have := (x 3).isLt; exact ⟨Nat.zero_le _, by show (x 3).val < 0 + 512; simpa using this⟩

theorem planes_disjoint (b b' : Fin 4) (h : b ≠ b') : Disjoint (planeSet b) (planeSet b') := by
  refine Finset.disjoint_left.mpr fun x hx hx' => h (Fin.ext ?_)
  have := (mem_planeSet b x).mp hx
  have := (mem_planeSet b' x).mp hx'
  omega

theorem planes_cover : Finset.univ.biUnion planeSet = Finset.univ := by
  refine Finset.eq_univ_of_forall fun x => Finset.mem_biUnion.mpr ?_
  have h0 : (x 0).val < 2 := (x 0).isLt
  have h1 : (x 1).val < 2 := (x 1).isLt
  exact ⟨⟨2 * (x 0).val + (x 1).val, by omega⟩, Finset.mem_univ _, (mem_planeSet _ x).mpr ⟨by show _ = (2 * _ + _) / 2; omega, by show _ = (2 * _ + _) % 2; omega⟩⟩

theorem slotOk0 : SlotOk 0#32 := ⟨by decide, by decide, by decide, by decide⟩
theorem slotOk1 : SlotOk 1#32 := ⟨by decide, by decide, by decide, by decide⟩

/-- The kernel's own semaphores. -/
def osem0 : Fin 4 → SemLoc sig := fun k => .dma (![4, 5, 6, 7] k)

variable (c : Dev nD)

/-- The kernel's own semaphores at zero. -/
def Sems0 : sProp 𝕄 :=
  iprop(semVal ((c : Thread nD τ), osem0 0) 0 ∗ semVal ((c : Thread nD τ), osem0 1) 0 ∗ semVal ((c : Thread nD τ), osem0 2) 0 ∗ semVal ((c : Thread nD τ), osem0 3) 0)

theorem sem00 : SemLoc.dma (semOf kmem0 (semOff 0#32 0) slotOk0.sem0).sem = osem0 0 := by rfl
theorem sem01 : SemLoc.dma (semOf kmem0 (semOff 0#32 1) slotOk0.sem1).sem = osem0 1 := by rfl
theorem sem10 : SemLoc.dma (semOf kmem0 (semOff 1#32 0) slotOk1.sem0).sem = osem0 2 := by rfl
theorem sem11 : SemLoc.dma (semOf kmem0 (semOff 1#32 1) slotOk1.sem1).sem = osem0 3 := by rfl

theorem bigSep_four {M : Type} [URA M] (Φ : Fin 4 → sProp M) :
    bigSep Finset.univ Φ = iprop(Φ (0 : Fin 4) ∗ Φ (1 : Fin 4) ∗ Φ (2 : Fin 4) ∗ Φ (3 : Fin 4)) :=
  bigSep_univ_eq_bigSepL [(0 : Fin 4), 1, 2, 3] (by decide) (by decide) Φ

/-- The buffer and the semaphores make two slots, -/
theorem planes_out (f : Buf (Elt F) ((c : Thread nD τ).loc cc0_scratch6)) :
    (iprop((((c : Thread nD τ).loc cc0_scratch6) ↦{fullShare} f) ∗ Sems0 (F := F) c) : sProp 𝕄) ⊢
      iprop(IdleAny (F := F) c kmem0 0#32 ∗ IdleAny (F := F) c kmem0 1#32) := by
  have e : (((c : Thread nD τ).loc cc0_scratch6) ↦{fullShare} f : sProp 𝕄)
      = iprop((((c : Thread nD τ).loc cc0_scratch6) ↦[planeSet 0]{fullShare} f) ∗ (((c : Thread nD τ).loc cc0_scratch6) ↦[planeSet 1]{fullShare} f)
        ∗ (((c : Thread nD τ).loc cc0_scratch6) ↦[planeSet 2]{fullShare} f) ∗ (((c : Thread nD τ).loc cc0_scratch6) ↦[planeSet 3]{fullShare} f)) :=
    (Ring.pointsTo_blocks (ℓ := (c : Thread nD τ).loc cc0_scratch6) planeSet planes_disjoint planes_cover f).trans (bigSep_four _)
  rw [e]
  unfold Sems0 IdleAny Idle Landed owns
  iintro ⟨⟨H0, H1, H2, H3⟩, S0, S1, S2, S3⟩
  isplitl [H0 H1 S0 S1]
  · iexists slotOk0
    iexists ((stOf kmem0 (stOff 0#32 0) slotOk0.st0).view.read (Elt F) f), ((stOf kmem0 (stOff 0#32 1) slotOk0.st1).view.read (Elt F) f)
    isplitl [H0]
    · iexists f
      isplitr; · ipureintro; rfl
      iexact H0
    isplitl [H1]
    · iexists f
      isplitr; · ipureintro; rfl
      iexact H1
    isplitl [S0]; · iexact S0
    iexact S1
  · iexists slotOk1
    iexists ((stOf kmem0 (stOff 1#32 0) slotOk1.st0).view.read (Elt F) f), ((stOf kmem0 (stOff 1#32 1) slotOk1.st1).view.read (Elt F) f)
    isplitl [H2]
    · iexists f
      isplitr; · ipureintro; rfl
      iexact H2
    isplitl [H3]
    · iexists f
      isplitr; · ipureintro; rfl
      iexact H3
    isplitl [S2]; · iexact S2
    iexact S3

theorem sem_eq {s s' : SemLoc sig} (h : s = s') : (semVal ((c : Thread nD τ), s) 0 : sProp 𝕄) ⊢ semVal ((c : Thread nD τ), s') 0 :=
  Entails.of_eq (h ▸ rfl)

/-- and back. -/
theorem planes_in (f₀ : Buf (Elt F) ((c : Thread nD τ).loc cc0_scratch6)) :
    (iprop(IdleAny (F := F) c kmem0 0#32 ∗ IdleAny (F := F) c kmem0 1#32) : sProp 𝕄) ⊢
      iprop((∃ f : Buf (Elt F) ((c : Thread nD τ).loc cc0_scratch6), ((c : Thread nD τ).loc cc0_scratch6) ↦{fullShare} f) ∗ Sems0 (F := F) c) := by
  have e := Ring.pointsTo_blocks_join_exists (Ix := Unit) (Name := ℕ) (U := Pipeline.UD sig nD τ) (Lvl := ℕ) (Val := Elt F)
    (ℓ := (c : Thread nD τ).loc cc0_scratch6) planeSet planes_disjoint planes_cover (q := fullShare) f₀
  rw [bigSep_four] at e
  unfold Sems0 IdleAny Idle Landed owns
  iintro ⟨⟨%h0, %G0, %U0, ⟨%f0, -, H0⟩, ⟨%f1, -, H1⟩, S0, S1⟩, ⟨%h1, %G1, %U1, ⟨%f2, -, H2⟩, ⟨%f3, -, H3⟩, S2, S3⟩⟩
  isplitl [H0 H1 H2 H3]
  · iapply e
    isplitl [H0]; · iexists f0; iexact H0
    isplitl [H1]; · iexists f1; iexact H1
    isplitl [H2]; · iexists f2; iexact H2
    iexists f3; iexact H3
  isplitl [S0]; · iapply (sem_eq c sem00); iexact S0
  isplitl [S1]; · iapply (sem_eq c sem01); iexact S1
  isplitl [S2]; · iapply (sem_eq c sem10); iexact S2
  iapply (sem_eq c sem11); iexact S3

end Cert.MoeUp

end
-- ==== Proof.ProgramEq.lean ====
module

public import proofs.«01_k».proof.Proof.Program
public import Idealize.ShloMosaic.Lib.Pipeline.Regions

/-! The printed body is `body` on its buffers. -/

@[expose] public section
namespace Cert.MoeUp
open Cert.KernelIdeal Cert.KernelIdeal.Gen
open Idealize.ShloMosaic Idealize.SL.Sem
variable {F : FTy → Type} [FloatOps F]

theorem partA_eq (i : grid0.Coords) (arg1 : Memref sig .tc .smem S320 .i32) (harg1 : arg1.IsWhole) (arg2 : Memref sig .tc .smem S81920 .i32) (harg2 : arg2.IsWhole) (arg3 : Memref sig .tc .smem S193 .i32) (harg3 : arg3.IsWhole) (arg4 : Memref sig .tc .vmem S65536x128 .i32) (harg4 : arg4.IsWhole) (arg5 : Memref sig .tc .vmem S8192x128 .f32) (harg5 : arg5.IsWhole) (arg6 : Memref sig .tc .hbm S64x2048x512 .f32) (harg6 : arg6.IsWhole) (arg7 : Memref sig .tc .hbm S64x2048x512 .f32) (harg7 : arg7.IsWhole) (arg8 : Memref sig .tc .vmem S512x512 .bf16) (harg8 : arg8.IsWhole) (arg9 : Memref sig .tc .vmem S2048x128 .i32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S2048x1024 .bf16) (harg14 : arg14.IsWhole) (arg15 : Memref sig .tc .vmem S2x2x2048x512 .f32) (harg15 : arg15.IsWhole) (arg16 : DmaSems sig S2x2) :
    k0_part391 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = partA ⟨arg1, arg2, arg3, arg4, arg5, arg6, arg7, arg8, harg8, arg9, arg10, harg10, arg11, harg11, arg12, arg13, arg14, harg14, arg15, arg16⟩ i := by
  chain_rfl

theorem partB_eq (i : grid0.Coords) (arg1 : Memref sig .tc .smem S320 .i32) (harg1 : arg1.IsWhole) (arg2 : Memref sig .tc .smem S81920 .i32) (harg2 : arg2.IsWhole) (arg3 : Memref sig .tc .smem S193 .i32) (harg3 : arg3.IsWhole) (arg4 : Memref sig .tc .vmem S65536x128 .i32) (harg4 : arg4.IsWhole) (arg5 : Memref sig .tc .vmem S8192x128 .f32) (harg5 : arg5.IsWhole) (arg6 : Memref sig .tc .hbm S64x2048x512 .f32) (harg6 : arg6.IsWhole) (arg7 : Memref sig .tc .hbm S64x2048x512 .f32) (harg7 : arg7.IsWhole) (arg8 : Memref sig .tc .vmem S512x512 .bf16) (harg8 : arg8.IsWhole) (arg9 : Memref sig .tc .vmem S2048x128 .i32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S2048x1024 .bf16) (harg14 : arg14.IsWhole) (arg15 : Memref sig .tc .vmem S2x2x2048x512 .f32) (harg15 : arg15.IsWhole) (arg16 : DmaSems sig S2x2) (a n z : BitVec 32) :
    k0_part392 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a n z = partB ⟨arg1, arg2, arg3, arg4, arg5, arg6, arg7, arg8, harg8, arg9, arg10, harg10, arg11, harg11, arg12, arg13, arg14, harg14, arg15, arg16⟩ i a n := by
  chain_rfl

theorem body_eq (i : grid0.Coords) (arg1 : Memref sig .tc .smem S320 .i32) (harg1 : arg1.IsWhole) (arg2 : Memref sig .tc .smem S81920 .i32) (harg2 : arg2.IsWhole) (arg3 : Memref sig .tc .smem S193 .i32) (harg3 : arg3.IsWhole) (arg4 : Memref sig .tc .vmem S65536x128 .i32) (harg4 : arg4.IsWhole) (arg5 : Memref sig .tc .vmem S8192x128 .f32) (harg5 : arg5.IsWhole) (arg6 : Memref sig .tc .hbm S64x2048x512 .f32) (harg6 : arg6.IsWhole) (arg7 : Memref sig .tc .hbm S64x2048x512 .f32) (harg7 : arg7.IsWhole) (arg8 : Memref sig .tc .vmem S512x512 .bf16) (harg8 : arg8.IsWhole) (arg9 : Memref sig .tc .vmem S2048x128 .i32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S2048x1024 .bf16) (harg14 : arg14.IsWhole) (arg15 : Memref sig .tc .vmem S2x2x2048x512 .f32) (harg15 : arg15.IsWhole) (arg16 : DmaSems sig S2x2) :
    cc0_moe_up (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = body ⟨arg1, arg2, arg3, arg4, arg5, arg6, arg7, arg8, harg8, arg9, arg10, harg10, arg11, harg11, arg12, arg13, arg14, harg14, arg15, arg16⟩ i := by
  unfold cc0_moe_up body
  simp only [partA_eq, partB_eq]
  rfl

end Cert.MoeUp
end
-- ==== Proof.Frame.lean ====
module

public import proofs.«01_k».proof.Proof.Planes
public import proofs.«01_k».proof.Proof.ProgramEq
public import Idealize.ShloMosaic.Lib.Pipeline.FrameBody

/-! The run of the kernel from any launch memory whose tables keep the plan. -/

@[expose] public section

noncomputable section

namespace Cert.MoeUp

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- The launch contents of a buffer. -/
abbrev V (c : Dev nD) (b : Ref sig .tc) : Buf (Elt F) ((c.tc : Thread nD τ).loc b) := m ((c.tc : Thread nD τ).loc b)

/-- The tables' contents. -/
abbrev adm : (p : Fin 1) → (pcfgs (F := F) p).Adm := fun _ => ⟨fun k => V m 0 (pre0.ref k), trivial⟩

/-- The pipeline at these tables. -/
abbrev pipe : Cfg sig Λ₀ := cfg0 (F := F) (adm m 0)

/-- What the arguments hold. -/
def data (c : Dev nD) : Data F :=
  ⟨V m c main_arg0, V m c main_arg1, V m c main_arg2, V m c main_arg3, V m c main_arg4, V m c main_arg5, V m c main_arg6,
    fullShare.right, fullShare.right, fullShare.right, fullShare, fullShare⟩

/-- The tables, along the share the kernel reads them by. -/
def Tables (c : Dev nD) : sProp 𝕄 :=
  iprop(owns (c : Thread nD τ) (Memref.whole main_arg0) fullShare.right (data m c).be
    ∗ owns (c : Thread nD τ) (Memref.whole main_arg1) fullShare.right (data m c).code
    ∗ owns (c : Thread nD τ) (Memref.whole main_arg2) fullShare.right (data m c).nb)

/-- What is held before step `n`. -/
def Inv (c : Dev nD) (n : ℕ) : sProp 𝕄 :=
  iprop(Tables m c ∗ FreeSt (F := F) c kmem0 ∗ RowSt c kmem0 (data m c) (0 < n) (2 * n) ∗ WeightSt c kmem0 (data m c) (2 * n)
    ∗ CopySt c kmem0 (data m c) (V m c main_arg5) (V m c main_arg6) (2 * n) ∗ ∃ r, prngReg c r)

/-- The arrays as the run finds them, what a step leaves in each block, and what is held between steps. -/
def dats (_ : Fin 1) (c : Dev nD) : Dat τ (Elt F) Unit ℕ (Pipeline.UD sig nD τ) ℕ (pipe m) c where
  A w := V m c (Pipeline.arrRef spec0 w)
  after w t := match w with
    | ⟨0, _⟩ => (data m c).hp
    | ⟨1, _⟩ => (data m c).wt
    | ⟨2, _⟩ => (data m c).tile t.val
  Φ n := Inv m c n.val
  q _ := fullShare
  owed _ := 0

theorem A_eq (c : Dev nD) (w : Fin (pipe m).W) : (dats m 0 c).A w = V m c (Pipeline.arrRef spec0 w) := by dsimp only [dats]
theorem after_0 (c : Dev nD) (t : Fin (pipe m).N) : (dats m 0 c).after 0 t = (data m c).hp := by dsimp only [dats]; rfl
theorem after_1 (c : Dev nD) (t : Fin (pipe m).N) : (dats m 0 c).after 1 t = (data m c).wt := by dsimp only [dats]; rfl
theorem after_2 (c : Dev nD) (t : Fin (pipe m).N) : (dats m 0 c).after 2 t = (data m c).tile t.val := by dsimp only [dats]; rfl

theorem coords_val : ∀ t : Fin grid0.N, (grid0.coords t 0).val = t.val := by decide

theorem rowOf (i : grid0.Coords) : cc0_transform_4 i 0 = (i 0).val := by
  have h : (i 0).val < 160 := (i 0).isLt
  show (BitVec.ofNat 32 (i 0).val).toNat = _
  rw [BitVec.toNat_ofNat]; omega

/-- Every step writes a block of its own. -/
theorem flush_2 (t : Fin (pipe m).N) : ((pipe m).win 2).flush t = true := by
  unfold Window.flush
  by_cases h : t.val + 1 = 160
  · exact Bool.and_eq_true_iff.mpr ⟨rfl, Bool.or_eq_true_iff.mpr (.inl (decide_eq_true (h.trans N_0.symm)))⟩
  · have ht : t.val < 160 := t.isLt.trans_eq N_0
    have h1 : t.val + 1 < grid0.N := by rw [N_0]; omega
    refine Bool.and_eq_true_iff.mpr ⟨rfl, Bool.or_eq_true_iff.mpr (.inr (decide_eq_true ⟨h1, fun e => ?_⟩))⟩
    have e0 : cc0_transform_4 (grid0.coords ⟨t.val + 1, h1⟩) 0 = cc0_transform_4 (grid0.coords t) 0 :=
      congrFun (show cc0_transform_4 (grid0.coords ⟨t.val + 1, h1⟩) = cc0_transform_4 (grid0.coords t) from e) 0
    rw [rowOf, rowOf, coords_val, coords_val] at e0
    exact absurd e0 (Nat.succ_ne_self _)

theorem block_0 (c : Dev nD) (t : Fin (pipe m).N) : (dats m 0 c).blockOf 0 t = (data m c).hp := by
  refine funext fun (y : S65536x128.Idx) => ?_
  refine congrArg (V m c main_arg3) (funext fun a => Fin.ext ?_)
  match a with
  | ⟨0, _⟩ => show 0 * 65536 + 1 * (y 0).val = (y 0).val; omega
  | ⟨1, _⟩ => show 0 * 128 + 1 * (y 1).val = (y 1).val; omega

theorem block_1 (c : Dev nD) (t : Fin (pipe m).N) : (dats m 0 c).blockOf 1 t = (data m c).wt := by
  refine funext fun (y : S8192x128.Idx) => ?_
  refine congrArg (V m c main_arg4) (funext fun a => Fin.ext ?_)
  match a with
  | ⟨0, _⟩ => show 0 * 8192 + 1 * (y 0).val = (y 0).val; omega
  | ⟨1, _⟩ => show 0 * 128 + 1 * (y 1).val = (y 1).val; omega

theorem before_0 (c : Dev nD) (t : Fin (pipe m).N) (d) : (dats m 0 c).before 0 t d = (data m c).hp :=
  ((dats m 0 c).before_in_eq_fetched 0 rfl (fun _ => rfl) (fun _ _ _ => rfl) (fun t => (after_0 m c t).trans (block_0 m c t).symm) t d).trans (block_0 m c t)
theorem before_1 (c : Dev nD) (t : Fin (pipe m).N) (d) : (dats m 0 c).before 1 t d = (data m c).wt :=
  ((dats m 0 c).before_in_eq_fetched 1 rfl (fun _ => rfl) (fun _ _ _ => rfl) (fun t => (after_1 m c t).trans (block_1 m c t).symm) t d).trans (block_1 m c t)

/-- The kernel's buffers at step `t`. -/
def memAt (t : Fin (pipe m).N) : Mem :=
  kmem (spec0_0.stage ((pipe m).slots t 0)) (spec0_1.stage ((pipe m).slots t 1)) (spec0_2.stage ((pipe m).slots t 2)) (hstage0_2 (((pipe m).slots t 2).cast nbuf0_2))

theorem defs₀_row (t : Fin (pipe m).N) :
    defs₀ (F := F) .tc (pipe m).body ((pipe m).bodyArgs t ((pipe m).slots t)) = body (memAt m t) (grid0.coords t) := by
  unfold defs₀; rw [Defs.onTc_tc]
  exact body_eq _ _ _ _ _ _ _ _ _ _ _ _ _ _ _ _ _ _ _ _ _ _ _ _ _ _ _ _ _ _ _ _

def bodyPre (c : Dev nD) (t : Fin (pipe m).N) : sProp 𝕄 :=
  iprop(Inv m c t.val ∗ Owes (F := F) c
    ∗ owns (c : Thread nD τ) (memAt m t).hp fullShare (data m c).hp ∗ owns (c : Thread nD τ) (memAt m t).wt fullShare (data m c).wt
    ∗ ∃ O, owns (c : Thread nD τ) (memAt m t).out fullShare O)
def bodyPost (c : Dev nD) (t : Fin (pipe m).N) : sProp 𝕄 :=
  iprop(Inv m c (t.val + 1) ∗ Owes (F := F) c
    ∗ owns (c : Thread nD τ) (memAt m t).hp fullShare (data m c).hp ∗ owns (c : Thread nD τ) (memAt m t).wt fullShare (data m c).wt
    ∗ owns (c : Thread nD τ) (memAt m t).out fullShare ((data m c).tile t.val))

theorem inv_next (c : Dev nD) (t : ℕ) : RowSt c kmem0 (data m c) True (2 * t + 2) = RowSt c kmem0 (data m c) (0 < t + 1) (2 * (t + 1)) := by
  rw [show (0 < t + 1) = True from propext ⟨fun _ => trivial, fun _ => Nat.succ_pos t⟩]; rfl

theorem sound_body (c : Dev nD) (P : Plan (data m c).be (data m c).nb) (t : Fin (pipe m).N) :
    bodyPre m c t ⊢ WP c (body (memAt m t) (grid0.coords t)) (fun _ => bodyPost m c t) := by
  unfold bodyPre bodyPost Inv Tables
  rw [← inv_next]
  iintro ⟨⟨⟨Hbe, Hcode, Hnb⟩, HF, HR, HW, HC, Hp⟩, HO, Hhp, Hwt, ⟨%O, HT⟩⟩
  ihave H : iprop(St c (memAt m t) (data m c) (V m c main_arg5) (V m c main_arg6) (0 < t.val) (2 * t.val)
      ∗ owns (c : Thread nD τ) (memAt m t).out fullShare O) $$ [Hbe Hcode Hnb HF HR HW HC HO Hhp Hwt HT]
  · isplitr [HT]
    · unfold St ReadSt reads
      isplitl [Hbe Hcode Hnb Hhp Hwt]
      · isplitl [Hcode Hhp Hwt]
        · isplitl [Hcode]; · iexact Hcode
          isplitl [Hhp]; · iexact Hhp
          iexact Hwt
        isplitl [Hbe]; · iexact Hbe
        iexact Hnb
      isplitl [HF]; · iexact HF
      isplitl [HR]; · iexact HR
      isplitl [HW]; · iexact HW
      isplitl [HC]; · iexact HC
      iexact HO
    · iexact HT
  iapply (body_spec c (memAt m t) (data m c) P (V m c main_arg5) (V m c main_arg6) rfl rfl (grid0.coords t) t.val (coords_val t) O) $$ H
  unfold St ReadSt reads
  iintro ⟨⟨⟨⟨Hcode, Hhp, Hwt⟩, Hbe, Hnb⟩, HF, HR, HW, HC, HO⟩, HT⟩
  isplitl [Hbe Hcode Hnb HF HR HW HC Hp]
  · isplitl [Hbe Hcode Hnb]
    · isplitl [Hbe]; · iexact Hbe
      isplitl [Hcode]; · iexact Hcode
      iexact Hnb
    isplitl [HF]; · iexact HF
    isplitl [HR]; · iexact HR
    isplitl [HW]; · iexact HW
    isplitl [HC]; · iexact HC
    iexact Hp
  isplitl [HO]; · iexact HO
  isplitl [Hhp]; · iexact Hhp
  isplitl [Hwt]; · iexact Hwt
  iexact HT

theorem own_eq {sp : Space} {sh : Shape} {e : EltTy} (c : Dev nD) (M : Memref sig .tc sp sh e) {X Y : sh.Idx → Elt F e} (h : X = Y) :
    (owns (c : Thread nD τ) M fullShare X : sProp 𝕄) ⊢ owns (c : Thread nD τ) M fullShare Y := Entails.of_eq (h ▸ rfl)

theorem leaves_2 (c : Dev nD) (t : Fin (pipe m).N) :
    owns (c : Thread nD τ) (memAt m t).out fullShare ((data m c).tile t.val) ⊢ (dats m 0 c).leavesExact 2 t := by
  unfold Dat.leavesExact
  rw [flush_2, after_2]
  generalize (pipe m).idle 2 ((pipe m).grid.coords t) = b
  cases b
  · exact .rfl
  · exact .rfl

theorem body_obligation (c : Dev nD) (P : Plan (data m c).be (data m c).nb) :
    BodyObligation (dats (F := F) m 0 c) (defs₀ (F := F)) Variants.none () Set.univ := fun t => by
  rw [bigSep_W0, bigSep_W0, defs₀_row]
  refine triple_restated (sound_body m c P t) rfl ?_ fun _ => ?_
  · show iprop(Inv m c t.val ∗ (dats m 0 c).owesAt () t.castSucc
      ∗ (∃ d, owns (c : Thread nD τ) (memAt m t).hp fullShare ((dats m 0 c).before 0 t d))
      ∗ (∃ d, owns (c : Thread nD τ) (memAt m t).wt fullShare ((dats m 0 c).before 1 t d))
      ∗ (∃ d, owns (c : Thread nD τ) (memAt m t).out fullShare ((dats m 0 c).before 2 t d))) ⊢ bodyPre m c t
    unfold bodyPre Owes Dat.owesAt Pipeline.owesWithin
    iintro ⟨HI, ⟨%W, -, HO⟩, ⟨%d0, H0⟩, ⟨%d1, H1⟩, ⟨%d2, H2⟩⟩
    isplitl [HI]; · iexact HI
    isplitl [HO]; · iexists W; iexact HO
    isplitl [H0]; · iapply (own_eq c (memAt m t).hp (before_0 m c t d0)); iexact H0
    isplitl [H1]; · iapply (own_eq c (memAt m t).wt (before_1 m c t d1)); iexact H1
    iexists _; iexact H2
  · show bodyPost m c t ⊢ iprop(Inv m c (t.val + 1) ∗ (dats m 0 c).owesAt () t.succ
      ∗ owns (c : Thread nD τ) (memAt m t).hp fullShare ((dats m 0 c).after 0 t)
      ∗ owns (c : Thread nD τ) (memAt m t).wt fullShare ((dats m 0 c).after 1 t)
      ∗ (dats m 0 c).leavesExact 2 t)
    unfold bodyPost Owes Dat.owesAt Pipeline.owesWithin
    iintro ⟨HI, ⟨%W, HO⟩, H0, H1, H2⟩
    isplitl [HI]; · iexact HI
    isplitl [HO]
    · iexists W
      isplitr; · ipureintro; exact fun _ _ => Or.inl trivial
      iexact HO
    isplitl [H0]; · iapply (own_eq c (memAt m t).hp (after_0 m c t).symm); iexact H0
    isplitl [H1]; · iapply (own_eq c (memAt m t).wt (after_1 m c t).symm); iexact H1
    iapply (leaves_2 m c t); iexact H2

/-! ## The launch -/

theorem ownSemFacts0 : Pipeline.OwnSemFacts spec0 osem0 := by decide

/-- The arrays of weights. -/
def weights : Finset (Ref sig .tc) := {main_arg5, main_arg6}

theorem weights_sub : weights ⊆ Pipeline.restRefsP sig pre0 spec0 := by decide

theorem sems_eq (c : Dev nD) : (Pipeline.ownSems0 (Ix := Unit) (Name := ℕ) (U := Pipeline.UD sig nD τ) (Lvl := ℕ) (Val := Elt F) (τ := τ) osem0 c : sProp 𝕄)
    = Sems0 (F := F) c := by
  rw [Pipeline.ownSems0_eq_of_list c osem0 [0, 1, 2, 3] (by decide) (by decide)]; rfl

theorem weights_eq (c : Dev nD) : (bigSep weights (fun b => ((c.tc : Thread nD τ).loc b) ↦{fullShare} V m c b) : sProp 𝕄)
    = iprop((((c : Thread nD τ).loc main_arg5) ↦{fullShare} V m c main_arg5) ∗ (((c : Thread nD τ).loc main_arg6) ↦{fullShare} V m c main_arg6)) :=
  BI.bigSep_eq_bigSepL_of_eq [main_arg5, main_arg6] (by decide) (by decide) _

theorem tables_eq (c : Dev nD) : (Pipeline.prefHeld (Ix := Unit) (Name := ℕ) (U := Pipeline.UD sig nD τ) (Lvl := ℕ) pre0 c (fun _ => fullShare.right) (adm m 0).1 : sProp 𝕄)
    = Tables m c := by
  obtain rfl : c = 0 := Subsingleton.elim _ _
  unfold Pipeline.prefHeld Tables
  rw [owns_whole, owns_whole, owns_whole]
  exact bigSep_univ_eq_bigSepL [(0 : Fin 3), 1, 2] (by decide) (by decide) _

theorem home_eq (c : Dev nD) : (Home (F := F) c kmem0 (V m c main_arg5) (V m c main_arg6) : sProp 𝕄)
    = iprop((((c : Thread nD τ).loc main_arg5) ↦{fullShare} V m c main_arg5) ∗ (((c : Thread nD τ).loc main_arg6) ↦{fullShare} V m c main_arg6)) := by
  unfold Home
  rw [show kmem0.wg.view.set = Finset.univ from View.set_whole main_arg5, show kmem0.wu.view.set = Finset.univ from View.set_whole main_arg6]
  rfl

theorem inv_first (c : Dev nD) :
    (iprop(Pipeline.ΦD osem0 spec0 weights (V m) c ∗ Pipeline.ΦT (U := Pipeline.UD sig nD τ) pre0 (adm m 0).1 c) : sProp 𝕄) ⊢ Inv m c 0 := by
  rw [Pipeline.ΦD_eq, scopedRest0_eq, sems_eq, weights_eq, ← home_eq]
  unfold Inv FreeSt RowSt WeightSt CopySt Quiet
  rw [if_neg (fun h => absurd h.1 (Nat.lt_irrefl 0))]
  iintro ⟨⟨⟨⟨%f0, H0⟩, ⟨%f1, H1⟩, ⟨%f2, H2⟩, ⟨%f3, H3⟩, ⟨%f4, H4⟩, ⟨%f5, H5⟩, ⟨%f6, H6⟩⟩, Hp, HS, HH⟩, HT⟩
  isplitl [HT]; · iapply (Entails.of_eq (tables_eq m c)); iexact HT
  isplitl [H0 H2 H4]
  · isplitl [H0]; · iexists f0; iapply (Entails.of_eq (owns_whole (c : Thread nD τ) cc0_scratch0 fullShare f0).symm); iexact H0
    isplitl [H2]; · iexists f2; iapply (Entails.of_eq (owns_whole (c : Thread nD τ) cc0_scratch2 fullShare f2).symm); iexact H2
    iexists f4; iapply (Entails.of_eq (owns_whole (c : Thread nD τ) cc0_scratch4 fullShare f4).symm); iexact H4
  isplitl [H1 H3]
  · iexists f1, f3
    isplitr; · ipureintro; exact fun h => absurd h (Nat.lt_irrefl 0)
    isplitl [H1]; · iapply (Entails.of_eq (owns_whole (c : Thread nD τ) cc0_scratch1 fullShare f1).symm); iexact H1
    iapply (Entails.of_eq (owns_whole (c : Thread nD τ) cc0_scratch3 fullShare f3).symm); iexact H3
  isplitl [H5]
  · iexists f5
    isplitr; · ipureintro; exact fun h => absurd h (Nat.lt_irrefl 0)
    iapply (Entails.of_eq (owns_whole (c : Thread nD τ) cc0_scratch5 fullShare f5).symm); iexact H5
  isplitr [Hp]
  · ihave H : iprop((((c : Thread nD τ).loc cc0_scratch6) ↦{fullShare} f6) ∗ Sems0 (F := F) c) $$ [H6 HS]
    · isplitl [H6]; · iexact H6
      iexact HS
    icases (planes_out c f6) $$ H with ⟨HA, HB⟩
    isplitl [HA]; · iexact HA
    isplitl [HB]; · iexact HB
    iexact HH
  · iexact Hp

theorem quiet_last (c : Dev nD) (P : Plan (data m c).be (data m c).nb) :
    CopySt c kmem0 (data m c) (V m c main_arg5) (V m c main_arg6) (2 * 160) ⊢ Quiet c kmem0 (V m c main_arg5) (V m c main_arg6) := by
  unfold CopySt
  exact Entails.of_eq (if_neg fun ⟨_, h, hm⟩ => P.last 319 (le_antisymm h P.used_le) hm)

theorem inv_last (c : Dev nD) (P : Plan (data m c).be (data m c).nb) :
    Inv m c 160 ⊢ (Pipeline.ΦD osem0 spec0 weights (V m) c : sProp 𝕄) := by
  rw [Pipeline.ΦD_eq, scopedRest0_eq, sems_eq, weights_eq, ← home_eq]
  unfold Inv FreeSt RowSt WeightSt
  iintro ⟨-, ⟨⟨%f0, H0⟩, ⟨%f2, H2⟩, ⟨%f4, H4⟩⟩, ⟨%f1, %f3, -, H1, H3⟩, ⟨%f5, -, H5⟩, HC, Hp⟩
  ihave HC := (quiet_last m c P) $$ HC
  unfold Quiet
  icases HC with ⟨HA, HB, HH⟩
  ihave H : iprop(IdleAny (F := F) c kmem0 0#32 ∗ IdleAny (F := F) c kmem0 1#32) $$ [HA HB]
  · isplitl [HA]; · iexact HA
    iexact HB
  icases (planes_in c (m ((c : Thread nD τ).loc cc0_scratch6))) $$ H with ⟨H6, HS⟩
  isplitr [Hp HS HH]
  · isplitl [H0]; · iexists f0; iapply (Entails.of_eq (owns_whole (c : Thread nD τ) cc0_scratch0 fullShare f0)); iexact H0
    isplitl [H1]; · iexists f1; iapply (Entails.of_eq (owns_whole (c : Thread nD τ) cc0_scratch1 fullShare f1)); iexact H1
    isplitl [H2]; · iexists f2; iapply (Entails.of_eq (owns_whole (c : Thread nD τ) cc0_scratch2 fullShare f2)); iexact H2
    isplitl [H3]; · iexists f3; iapply (Entails.of_eq (owns_whole (c : Thread nD τ) cc0_scratch3 fullShare f3)); iexact H3
    isplitl [H4]; · iexists f4; iapply (Entails.of_eq (owns_whole (c : Thread nD τ) cc0_scratch4 fullShare f4)); iexact H4
    isplitl [H5]; · iexists f5; iapply (Entails.of_eq (owns_whole (c : Thread nD τ) cc0_scratch5 fullShare f5)); iexact H5
    iexact H6
  isplitl [Hp]; · iexact Hp
  isplitl [HS]; · iexact HS
  iexact HH

set_option backward.isDefEq.respectTransparency.types false in
theorem run_raw (P : ∀ c, Plan (data m c).be (data m c).nb) :
    θ_run defs (onTc (τ := τ) (main (F := F))) (s₀ m ρ) (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem0 defs₀ Variants.none ownSemFacts0 weights weights_sub m ρ main
    (hbody := fun c => (body_obligation m c (P c)).loose) (hshare := fun c => (dats m 0 c).share_full fun _ => rfl)
    (howed := fun _ _ => rfl) (V := V m)
    (hmain := Pipeline.hmainP_region pcfgs 0 defs₀ Variants.none m main fun c => (main_chain c).trans rfl)
    (hA := A_eq m) (hpf := fun c k => by obtain rfl : c = 0 := Subsingleton.elim _ _; rfl)
    (hin := inv_first m) (hout := fun c => inv_last m c (P c))

/-- The result: block by block. -/
def result (c : Dev nD) : S81920x512.Idx → Elt F .bf16 :=
  fun y => (data m c).rows ((y 0).val / 256) (ValueIdx.ix2 (⟨(y 0).val % 256, Nat.mod_lt _ (by decide)⟩ : Fin 256) (y 1))

/-- Where an element of a step's block lies. -/
def place (t : Fin (pipe m).N) (y : S512x512.Idx) : S81920x512.Idx := (((pipe m).win 2).blk t).view.emb y

theorem emb_block (t : Fin (pipe m).N) (y : S512x512.Idx) (a : Fin 2) :
    (place m t y a).val = (![t.val * 512, 0] : Fin 2 → ℕ) a + (y a).val := by
  have e : cc0_transform_4 (grid0.coords t) 0 = t.val := (rowOf _).trans (coords_val t)
  match a with
  | ⟨0, _⟩ => show cc0_transform_4 (grid0.coords t) 0 * 512 + 1 * (y 0).val = t.val * 512 + (y 0).val; rw [e, Nat.one_mul]
  | ⟨1, _⟩ => show 0 * 512 + 1 * (y 1).val = 0 + (y 1).val; omega

theorem flushed_eq (c : Dev nD) (t : Fin (pipe m).N) :
    (dats m 0 c).flushed 2 t = (((pipe m).win 2).blk t).view.read (Elt F) (result m c) := by
  refine funext fun (y : S512x512.Idx) => ?_
  have e0 := emb_block m t y 0
  have e1 := emb_block m t y 1
  have h0 : (y 0).val < 512 := (y 0).isLt
  refine (congrFun (after_2 m c t) y).trans ?_
  show _ = result m c (place m t y)
  unfold Data.tile result
  have e0' : (place m t y 0).val = t.val * 512 + (y 0).val := e0
  have e1' : (place m t y 1).val = (y 1).val := by rw [e1]; exact Nat.zero_add _
  refine congr (congrArg (data m c).rows ?_) (funext fun a => Fin.ext ?_)
  · rw [e0']; omega
  · match a with
    | ⟨0, _⟩ => show (y 0).val % 256 = (place m t y 0).val % 256; rw [e0']; omega
    | ⟨1, _⟩ => exact e1'.symm

theorem covered (i : S81920x512.Idx) : ∃ t : Fin (pipe m).N, ((pipe m).win 2).flush t = true ∧ i ∈ (((pipe m).win 2).blk t).view.set := by
  have h0 : (i 0).val < 81920 := (i 0).isLt
  have h1 : (i 1).val < 512 := (i 1).isLt
  have hN : (i 0).val / 512 < grid0.N := by rw [N_0]; omega
  let t : Fin (pipe m).N := ⟨(i 0).val / 512, hN⟩
  let y : S512x512.Idx := ValueIdx.ix2 (⟨(i 0).val % 512, Nat.mod_lt _ (by decide)⟩ : Fin 512) (⟨(i 1).val, h1⟩ : Fin 512)
  refine ⟨t, flush_2 m t, ?_⟩
  have e : place m t y = i := by
    refine funext fun (a : Fin 2) => Fin.ext ((emb_block m t y a).trans ?_)
    match a with
    | ⟨0, _⟩ => show (i 0).val / 512 * 512 + (i 0).val % 512 = (i 0).val; omega
    | ⟨1, _⟩ => show 0 + (i 1).val = (i 1).val; omega
  have hm := (((pipe m).win 2).blk t).view.emb_mem_set y
  exact (congrArg (fun x => x ∈ (((pipe m).win 2).blk t).view.set) e).mp hm

theorem result_eq (c : Dev nD) : (dats m 0 c).arrAt 2 (pipe m).N = result m c :=
  (dats m 0 c).arrAt_eq_of_cover 2 (result m c) (fun t _ => flushed_eq m c t) (covered m)

theorem not_array : ∀ b ∈ [main_arg0, main_arg1, main_arg2, main_arg5, main_arg6], ∀ w : Fin 3, (spec0 w).arr.view.ref ≠ b := by decide

/-- The run ends with the arguments as they were and the result in place. -/
theorem run_main (P : ∀ c, Plan (data m c).be (data m c).nb) :
    θ_run defs (onTc (τ := τ) (main (F := F))) ⟨m, fun _ => 0, ρ⟩ (fun r => (∀ c : Dev nD,
        r.2.mem ((c.tc : Thread nD τ).loc main_v0) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0) := by
  refine (θ_run defs _ _).mono (fun r ⟨h, hs⟩ => ⟨fun c => ?_, hs⟩) (run_raw m ρ P)
  have w := (h c).1
  have b := (h c).2
  exact ⟨(w 2).trans (result_eq m c), b main_arg0 (Pipeline.mem_restRefs_of main_arg0 (by decide) (not_array main_arg0 (by decide))),
    b main_arg1 (Pipeline.mem_restRefs_of main_arg1 (by decide) (not_array main_arg1 (by decide))),
    b main_arg2 (Pipeline.mem_restRefs_of main_arg2 (by decide) (not_array main_arg2 (by decide))),
    (w 0).trans ((dats m 0 c).arrAt_in 0 rfl _), (w 1).trans ((dats m 0 c).arrAt_in 1 rfl _),
    b main_arg5 (Pipeline.mem_restRefs_of main_arg5 (by decide) (not_array main_arg5 (by decide))),
    b main_arg6 (Pipeline.mem_restRefs_of main_arg6 (by decide) (not_array main_arg6 (by decide)))⟩

end Cert.MoeUp

end
-- ==== Proof.PlanOf.lean ====
module

public import proofs.«01_k».proof.Proof.Plan
public import proofs.«01_k».proof.Proof.Gen.Pre_blocks_in_order
public import Idealize.ShloMosaic.Lib.PointwiseCore

/-! The precondition read at one index. -/

@[expose] public section

noncomputable section

namespace Cert.MoeUp

open Idealize.ShloMosaic WordCmp

variable {F : FTy → Type} [FloatOps F]

/-- What a one at an index `(i, e, f)` says of the words `n` (the blocks in use), `cur` and `fo` (this block's expert and
    the next block's), `se`, `sf` (the slots of `e` and `f`) and `nx` (the successor of `e`). -/
structure Ordered (n cur fo se sf nx : BitVec 32) (i e f : ℕ) : Prop where
  n_nonneg : 0 ≤ n.toInt
  n_le : n.toInt ≤ (320#32).toInt
  cur_nonneg : 0 ≤ cur.toInt
  cur_lt : cur.toInt < (64#32).toInt
  slot_nonneg : 0 ≤ se.toInt
  slot_lt : se.toInt < (2#32).toInt
  moves : (BitVec.ofNat 32 i + 1#32).toInt < n.toInt → cur = BitVec.ofNat 32 e → fo = BitVec.ofNat 32 f →
    BitVec.ofNat 32 e ≠ BitVec.ofNat 32 f → nx = BitVec.ofNat 32 f ∧ sf = 1#32 - se
  ends : BitVec.ofNat 32 i + 1#32 = n → cur = BitVec.ofNat 32 e → nx.toInt < 0

theorem not_ofBool (b : Bool) : ~~~(BitVec.ofBool b) = BitVec.ofBool (!b) := by cases b <;> decide

/-- The precondition at one index. -/
theorem pre_at (be : IVec Pre_blocks_in_order.S320 32) (code : IVec Pre_blocks_in_order.S81920 32) (nb : IVec Pre_blocks_in_order.S193 32)
    (hp : IVec Pre_blocks_in_order.S65536x128 32) (wt : FVec F Pre_blocks_in_order.S8192x128 .f32)
    (wg wu : FVec F Pre_blocks_in_order.S64x2048x512 .f32) (i : Fin 320) (e f : Fin 64)
    (h : haveI := Pre_blocks_in_order.Gen.facts
      Pre_blocks_in_order.fn be code nb hp wt wg wu (ix3 i e f) = 1#1) :
    Ordered (nb (ix1 ⟨0, by omega⟩)) (be (ix1 i)) (if h : i.val < 319 then be (ix1 ⟨1 + i.val, by omega⟩) else be (ix1 ⟨i.val - 319, by omega⟩))
      (nb (ix1 ⟨65 + e.val, by omega⟩)) (nb (ix1 ⟨65 + f.val, by omega⟩)) (nb (ix1 ⟨129 + e.val, by omega⟩)) i.val e.val f.val := by
  revert h
  pointwise [Pre_blocks_in_order.fn, Pre_blocks_in_order.fn_part1, Pre_blocks_in_order.fn_part2, Pre_blocks_in_order.fn_part3]
  generalize (if h : i.val < 319 then be (ix1 ⟨1 + i.val, by omega⟩) else be (ix1 ⟨i.val - 319, by omega⟩)) = fo
  simp only [cmpi_slt_eq, cmpi_sle_eq, cmpi_sge_eq, cmpi_eq_eq, cmpi_ne_eq, andi_ofBool, ori_ofBool, not_ofBool, ofBool_eq_one_iff,
    Bool.and_eq_true, Bool.or_eq_true, Bool.not_eq_true', decide_eq_true_eq, Bool.and_eq_false_iff, decide_eq_false_iff_not]
  rintro ⟨⟨⟨⟨⟨⟨⟨h1, h2⟩, h3⟩, h4⟩, h5⟩, h6⟩, h7⟩, h8⟩
  refine ⟨h1, h2, h3, h4, h5, h6, fun a b c d => ?_, fun a b => ?_⟩
  · rcases h7 with h7 | h7
    · rcases h7 with (h7 | h7) | h7
      · rcases h7 with h7 | h7
        · exact absurd a h7
        · exact absurd b h7
      · exact absurd c h7
      · exact absurd d h7
    · exact h7
  · rcases h8 with h8 | h8
    · rcases h8 with h8 | h8
      · exact absurd a h8
      · exact absurd b h8
    · exact h8

theorem toNat_of_nonneg {x : BitVec 32} (h : 0 ≤ x.toInt) : (x.toNat : ℤ) = x.toInt :=
  (toInt_eq_toNat_of_lt_half ((toInt_nonneg_iff_lt_half x).mp h)).symm

/-- The precondition makes the tables a plan. -/
theorem plan_of (be : IVec Pre_blocks_in_order.S320 32) (code : IVec Pre_blocks_in_order.S81920 32) (nb : IVec Pre_blocks_in_order.S193 32)
    (hp : IVec Pre_blocks_in_order.S65536x128 32) (wt : FVec F Pre_blocks_in_order.S8192x128 .f32)
    (wg wu : FVec F Pre_blocks_in_order.S64x2048x512 .f32)
    (h : haveI := Pre_blocks_in_order.Gen.facts
      Pre_blocks_in_order.fn be code nb hp wt wg wu = fun _ => 1#1) : Plan be nb := by
  have at3 (i : Fin 320) (e f : Fin 64) := pre_at be code nb hp wt wg wu i e f (congrFun h _)
  have hused : used nb = nb (ix1 ⟨0, by omega⟩) := congrArg nb (congrArg ValueIdx.ix1 (Fin.ext rfl))
  have hbe (b : ℕ) (hb : b < 320) : beAt be b = be (ix1 ⟨b, hb⟩) :=
    congrArg be (congrArg ValueIdx.ix1 (Fin.ext (show min b 319 = b by omega)))
  have hnb (k : ℕ) (hk : k < 193) : nbAt nb k = nb (ix1 ⟨k, hk⟩) :=
    congrArg nb (congrArg ValueIdx.ix1 (Fin.ext (Nat.mod_eq_of_lt hk)))
  have hle : (used nb).toNat ≤ 320 := by
    have := at3 0 0 0
    have h1 := this.n_nonneg; have h2 := this.n_le
    rw [← hused] at h1 h2
    have h3 := toNat_of_nonneg h1
    have h4 : (320#32).toInt = 320 := by decide
    omega
  have hlt (b : ℕ) : (beAt be b).toNat < 64 := by
    have := at3 ⟨min b 319, by omega⟩ 0 0
    have h3 := toNat_of_nonneg this.cur_nonneg
    have h2 := this.cur_lt
    have h4 : (64#32).toInt = 64 := by decide
    show (be (ix1 ⟨min b 319, by omega⟩)).toNat < 64
    omega
  have hword (x : BitVec 32) : BitVec.ofNat 32 x.toNat = x := BitVec.eq_of_toNat_eq (toNat_ofNat_of_lt x.isLt)
  refine ⟨hle, hlt, fun e he => ?_, fun b hb hne => ?_, fun b hb hm => ?_⟩
  · have := at3 0 ⟨e.toNat, he⟩ 0
    have h3 := toNat_of_nonneg this.slot_nonneg
    have h2 := this.slot_lt
    have h4 : (2#32).toInt = 2 := by decide
    have h5 : (slotOf nb e).toNat < 2 := by
      unfold slotOf; rw [hnb _ (by omega)]; dsimp only at h2 h3; omega
    rcases (show (slotOf nb e).toNat = 0 ∨ (slotOf nb e).toNat = 1 by omega) with h6 | h6
    · exact Or.inl (BitVec.eq_of_toNat_eq h6)
    · exact Or.inr (BitVec.eq_of_toNat_eq h6)
  · have h0 := hlt b; have h1 := hlt (b + 1)
    have := (at3 ⟨b, by omega⟩ ⟨_, h0⟩ ⟨_, h1⟩).moves
    dsimp only at this
    rw [dif_pos (by omega), ← hused, ← hbe b (by omega), ← hnb _ (by omega), ← hnb _ (by omega), ← hnb _ (by omega), hword, hword] at this
    have hf : be (ix1 ⟨1 + b, by omega⟩) = beAt be (b + 1) := by
      rw [hbe (b + 1) (by omega)]; exact congrArg be (congrArg ValueIdx.ix1 (Fin.ext (Nat.add_comm 1 b)))
    refine this ?_ rfl hf hne
    have hi : BitVec.ofNat 32 b + 1#32 = BitVec.ofNat 32 (b + 1) := by
      rw [BitVec.ofNat_add]
    rw [hi, toInt_ofNat_of_lt (by omega), ← toNat_of_nonneg (by rw [hused]; exact (at3 0 0 0).n_nonneg)]
    omega
  · have h0 := hlt b
    have := (at3 ⟨b, by omega⟩ ⟨_, h0⟩ 0).ends
    dsimp only at this
    rw [← hused, ← hbe b (by omega), ← hnb _ (by omega), hword] at this
    have h2 := this (BitVec.eq_of_toNat_eq (by
      have hi : BitVec.ofNat 32 b + 1#32 = BitVec.ofNat 32 (b + 1) := by rw [BitVec.ofNat_add]
      rw [hi, toNat_ofNat_of_lt (by omega)]; exact hb)) rfl
    have h3 : 0 ≤ (nextOf nb (beAt be b)).toInt := (toInt_nonneg_iff_lt_half _).mpr hm
    exact absurd h2 (by unfold nextOf at h3; omega)

end Cert.MoeUp

end
-- ==== Proof.Transfer.lean ====
module

public import proofs.«01_k».proof.Proof.Gen.Kernel
public import proofs.«01_k».proof.Proof.Gen.KernelIdeal
public import Idealize.ShloMosaic.Lib.Pipeline.Regions

/-! The kernel and its reading over the extended reals are one text: a run of the one is a run of the other. -/

@[expose] public section

noncomputable section

namespace Cert.MoeUp

open Idealize.ShloMosaic Idealize.SL.Sem

variable {F : FTy → Type} [FloatOps F]

theorem run_transfer (m : (ℓ : Loc Kernel.nD Kernel.τ Kernel.sig) → Buf (Elt F) ℓ) (ρ : Dev Kernel.nD → PrngReg)
    (Q : PUnit.{1} × MemSt Kernel.nD Kernel.τ Kernel.sig (Elt F) → Prop) :
    θ_run (Kernel.defs (F := F)) (onTc (τ := Kernel.τ) (Kernel.main (F := F))) ⟨m, fun _ => 0, ρ⟩ Q
      = θ_run (KernelIdeal.defs (F := F)) (onTc (τ := KernelIdeal.τ) (KernelIdeal.main (F := F))) ⟨m, fun _ => 0, ρ⟩ Q := by
  chain_rfl

end Cert.MoeUp

end
-- ==== Proof.Runs.lean ====
module

public import proofs.«01_k».proof.Defs
public import proofs.«01_k».proof.Proof.Frame
public import proofs.«01_k».proof.Proof.PlanOf
public import proofs.«01_k».proof.Proof.Transfer
public import proofs.«01_k».proof.Proof.Gen.Kernel
public import proofs.«01_k».proof.Proof.Gen.ReferenceIdeal.Run
public import Idealize.ShloMosaic.Lib.Quiescent

/-! The frames: the kernel's run, read at either instance, and the reference's. -/

@[expose] public section

noncomputable section

namespace Cert.MoeUp

open Idealize.ShloMosaic Idealize.SL.Sem

theorem plan_ideal (m : (ℓ : Loc KernelIdeal.nD KernelIdeal.τ KernelIdeal.sig) → Buf (Elt Ideal) ℓ)
    (h : haveI := Pre_blocks_in_order.Gen.facts; Pre_KernelIdeal m) (c : Dev KernelIdeal.nD) : Plan (data m c).be (data m c).nb :=
  plan_of _ _ _ _ _ _ _ (h c)

theorem plan_bits (m : (ℓ : Loc Kernel.nD Kernel.τ Kernel.sig) → Buf (Elt Bits) ℓ)
    (h : haveI := Pre_blocks_in_order.Gen.facts; Pre_Kernel m) (c : Dev KernelIdeal.nD) :
    Plan (data (F := Bits) m c).be (data (F := Bits) m c).nb :=
  plan_of _ _ _ _ _ _ _ (h c)

/-- The kernel's frame at its own words. -/
theorem frame_kernel : @Cert.quiescent_Kernel Kernel.Gen.facts Pre_blocks_in_order.Gen.facts := fun m ρ h =>
  (run_transfer (F := Bits) m ρ _).mpr
    ((θ_run Cert.KernelIdeal.defs _ _).mono (fun _ h => ⟨fun c => (h.1 c).2, h.2⟩) (run_main (F := Bits) m ρ (plan_bits m h)))

/-- The kernel's frame over the extended reals. -/
theorem frame_ideal : @Cert.quiescent_KernelIdeal KernelIdeal.Gen.facts Pre_blocks_in_order.Gen.facts := fun m ρ h =>
  (θ_run Cert.KernelIdeal.defs _ _).mono (fun _ h => ⟨fun c => (h.1 c).2, h.2⟩) (run_main m ρ (plan_ideal m h))

/-- The reference's frame. -/
theorem frame_reference : @Cert.quiescent_ReferenceIdeal ReferenceIdeal.Gen.facts := fun m ρ _ =>
  (θ_run Cert.ReferenceIdeal.defs _ _).mono (fun r h => ⟨fun c => (h c).2, sem_eq_zero_of_no_sems (by decide) r.2⟩)
    (ReferenceIdeal.Value.run m ρ)

/-- The same, given what the kernel's is given. -/
theorem frame_reference_pre :
    @Cert.quiescent_ReferenceIdeal_pre_blocks_in_order ReferenceIdeal.Gen.facts Pre_blocks_in_order.Gen.facts := fun m ρ _ =>
  frame_reference m ρ trivial

end Cert.MoeUp

end
-- ==== Proof.Cell.lean ====
module

public import Idealize.ShloMosaic.Lib.Pointwise

/-! One entry of the result over the extended reals, in terms of the arrays: what both the kernel's rows and the
    reference's come down to. -/

@[expose] public section

noncomputable section

namespace Cert.MoeUp

open Idealize.ShloMosaic

theorem sel_one {α : Type} (x y : α) : Scalar.select 1#1 x y = x := rfl
theorem sel_zero {α : Type} (x y : α) : Scalar.select 0#1 x y = y := rfl
theorem bit_cases (c : BitVec 1) : c = 1#1 ∨ c = 0#1 := by revert c; decide

/-- A token's activation, out of the packed words. -/
def act (hp : (⟨2, ![65536, 128]⟩ : Shape).Idx → BitVec 32) (t : Fin 8192) (k : Fin 2048) : EReal :=
  Ideal.ofBits .bf16 ((hp (ix2 ⟨8 * t.val + k.val % 1024 / 128, by omega⟩ ⟨k.val % 128, by omega⟩)).extractLsb' (k.val / 1024 * 16) 16)

/-- A token's product with a column of an expert's weights. -/
def dotAt (hp : (⟨2, ![65536, 128]⟩ : Shape).Idx → BitVec 32) (w : (⟨3, ![64, 2048, 512]⟩ : Shape).Idx → EReal) (t : Fin 8192) (e : Fin 64)
    (f : Fin 512) : EReal :=
  ∑ k : Fin 2048, act hp t k * w (ix3 e k f)

/-- The gated product, weighted, for a row that is in use. -/
def cell (hp : (⟨2, ![65536, 128]⟩ : Shape).Idx → BitVec 32) (wt : (⟨2, ![8192, 128]⟩ : Shape).Idx → EReal)
    (wg wu : (⟨3, ![64, 2048, 512]⟩ : Shape).Idx → EReal) (c : BitVec 1) (t : Fin 8192) (e : Fin 64) (f : Fin 512) : EReal :=
  Scalar.select c (dotAt hp wg t e f * Ideal.logistic (dotAt hp wg t e f) * dotAt hp wu t e f * wt (ix2 t ⟨e.val, by omega⟩)) 0

end Cert.MoeUp

end
-- ==== Proof.KernelAt.lean ====
module

public import proofs.«01_k».proof.Proof.Step
public import proofs.«01_k».proof.Proof.Cell

/-! A block's rows over the extended reals, read at one index. -/

@[expose] public section

noncomputable section

namespace Cert.MoeUp

open Cert.KernelIdeal Cert.KernelIdeal.Gen
open Idealize.ShloMosaic WordCmp

/-- The product of a row with a column of the rounded weights. -/
def colDot (x : Vec Ideal S256x2048 .bf16) (w : Vec Ideal S2048x1024 .bf16) (r : Fin 256) (f : Fin 1024) : EReal :=
  ∑ k : Fin 2048, (show EReal from x (ix2 r k)) * (show EReal from w (ix2 k f))

theorem blockVal_at (x : Vec Ideal S256x2048 .bf16) (w : Vec Ideal S2048x1024 .bf16) (lw : FVec Ideal S256x1 .f32) (mk : IVec S256x1 1)
    (r : Fin 256) (f : Fin 512) : blockVal x w lw mk (ix2 r f)
      = Scalar.select (mk (ix2 r 0)) (colDot x w r ⟨f.val, by omega⟩ * Ideal.logistic (colDot x w r ⟨f.val, by omega⟩)
          * colDot x w r ⟨512 + f.val, by omega⟩ * (show EReal from lw (ix2 r 0))) 0 := by
  pointwise [blockVal, colDot]

theorem laneWeight_at (e : BitVec 32) (he : e.toNat < 64) (w : Vec Ideal S256x128 .f32) (r : Fin 256) :
    laneWeight e w (ix2 r 0) = w (ix2 r ⟨e.toNat, by omega⟩) := by
  pointwise [laneWeight]
  refine (Finset.sum_eq_single (⟨e.toNat, by omega⟩ : Fin 128) (fun x _ hx => ?_) (fun h => absurd (Finset.mem_univ _) h)).trans ?_
  · rw [cmpi_eq_eq, decide_eq_false, BitVec.ofBool_false]
    · rfl
    · intro h
      refine hx (Fin.ext ?_)
      have := congrArg BitVec.toNat h
      rw [toNat_ofNat_of_lt (by omega)] at this
      exact this
  · rw [cmpi_eq_eq, decide_eq_true (BitVec.eq_of_toNat_eq (toNat_ofNat_of_lt e.isLt))]
    rfl

theorem rowMask_at (b fin : BitVec 32) (r : Fin 256) : rowMask b fin (ix2 r 0)
    = IntOp.cmpi .slt (IntOp.addi (Scalar.muli b 256#32) (BitVec.ofNat 32 r.val)) fin := by
  pointwise [rowMask]

variable (D : Data Ideal)

theorem rowsX_at (b : ℕ) (r : Fin 256) (k : Fin 2048) : D.rowsX b (ix2 r k) = act D.hp (tokOf (D.code (codeIdx b r.val))) k := rfl

theorem both_gate (b : ℕ) (k : Fin 2048) (f : Fin 512) : D.both b (ix2 k ⟨f.val, by omega⟩) = D.wg (ix3 (expert (D.e b)) k f) := by
  show bothRows D.wg D.wu _ _ = _
  unfold bothRows
  exact (dif_pos f.isLt).trans rfl

theorem both_up (b : ℕ) (k : Fin 2048) (f : Fin 512) : D.both b (ix2 k ⟨512 + f.val, by omega⟩) = D.wu (ix3 (expert (D.e b)) k f) := by
  show bothRows D.wg D.wu _ _ = _
  unfold bothRows
  refine (dif_neg (by show ¬ 512 + f.val < 512; omega)).trans ?_
  exact congrArg D.wu (congrArg (ix3 _ _) (Fin.ext (by show 512 + f.val - 512 = f.val; omega)))

theorem value_at (b : ℕ) (he : (D.e b).toNat < 64) (r : Fin 256) (f : Fin 512) : D.value b (ix2 r f)
    = cell D.hp D.wt D.wg D.wu (IntOp.cmpi .slt (IntOp.addi (Scalar.muli (BitVec.ofNat 32 b) 256#32) (BitVec.ofNat 32 r.val)) (finOf D.nb (D.e b)))
        (tokOf (D.code (codeIdx b r.val))) ⟨(D.e b).toNat, he⟩ f := by
  have hex : expert (D.e b) = ⟨(D.e b).toNat, he⟩ := Fin.ext (Nat.mod_eq_of_lt he)
  unfold Data.value
  rw [blockVal_at, rowMask_at, laneWeight_at _ he]
  have hg : colDot (D.rowsX b) (D.both b) r ⟨f.val, by omega⟩ = dotAt D.hp D.wg (tokOf (D.code (codeIdx b r.val))) ⟨(D.e b).toNat, he⟩ f := by
    refine Finset.sum_congr rfl fun k _ => ?_
    rw [rowsX_at, both_gate, hex]
  have hu : colDot (D.rowsX b) (D.both b) r ⟨512 + f.val, by omega⟩ = dotAt D.hp D.wu (tokOf (D.code (codeIdx b r.val))) ⟨(D.e b).toNat, he⟩ f := by
    refine Finset.sum_congr rfl fun k _ => ?_
    rw [rowsX_at, both_up, hex]
  rw [hg, hu]
  rfl

end Cert.MoeUp

end
-- ==== Proof.Ref.lean ====
module

public import proofs.«01_k».proof.Proof.Gen.ReferenceIdeal.Run
public import proofs.«01_k».proof.Proof.Gather
public import proofs.«01_k».proof.Proof.Cell
public import Idealize.ShloMosaic.Lib.BitcastConvert
public import Idealize.ShloMosaic.Lib.Routing.OpsSet

/-! The reference's stages: its result is made of them, and what each reads at one index. -/

@[expose] public section

noncomputable section

namespace Cert.MoeUp.Ref

open Cert.ReferenceIdeal Cert.ReferenceIdeal.Gen
open Idealize.ShloMosaic WordCmp

variable (be : IVec S320 32) (code : IVec S81920 32) (nb : IVec S193 32) (hp : IVec S65536x128 32) (wt : FVec Ideal S8192x128 .f32)
  (wg wu : FVec Ideal S64x2048x512 .f32)

/-- The tokens of all rows. -/
def toks : IVec S81920 32 :=
  andi (Host.shrsi code (broadcastInDim S81920 ![] bcast_S_S81920 (constantI S_ 32 3#32)))
    (broadcastInDim S81920 ![] bcast_S_S81920 (constantI S_ 32 8191#32))

/-- The packed words as pairs of halves. -/
def pairs : FVec Ideal S8192x1024x2 .f32 :=
  extf .f32 (bitcastToFloat (F := Ideal) .bf16 (Host.bitcastConvertNarrow S8192x1024x2 16 (shapeCast _ hp shapeCasts_S65536x128_S8192x1024)
    splits_S8192x1024_w32_S8192x1024x2_w16)) bitsLt_bf16_f32

/-- The activations of all tokens. -/
def acts : FVec Ideal S8192x2048 .f32 :=
  concatenate S8192x2048 1 [⟨S8192x1024, (shapeCast _ (extractStridedSlice S8192x1024x1 ![0, 0, 0] (pairs hp) slices_S8192x1024x2_S8192x1024x1_0_0_0) shapeCasts_S8192x1024x1_S8192x1024)⟩, ⟨S8192x1024, (shapeCast _ (extractStridedSlice S8192x1024x1 ![0, 0, 1] (pairs hp) slices_S8192x1024x2_S8192x1024x1_0_0_1) shapeCasts_S8192x1024x1_S8192x1024)⟩] concatenates_S8192x1024_S8192x1024_S8192x2048_d1

/-- The blocks' activations. -/
def rowsOf : FVec Ideal S320x256x2048 .f32 :=
  shapeCast _ (Host.gather gather_S8192x2048_S81920x1_S81920x2048_1_0_n_n_0_1_12048 (acts hp)
    (broadcastInDim S81920x1 ![0] bcast_S81920_S81920x1_0 (toks code))) shapeCasts_S81920x2048_S320x256x2048

/-- The blocks' weights. -/
def planes (w : FVec Ideal S64x2048x512 .f32) : FVec Ideal S320x2048x512 .f32 :=
  Host.gather gather_S64x2048x512_S320x1_S320x2048x512_12_0_n_n_0_1_12048512 w (broadcastInDim S320x1 ![0] bcast_S320_S320x1_0 be)

/-- A product. -/
def prod (w : FVec Ideal S64x2048x512 .f32) : FVec Ideal S320x256x512 .f32 :=
  Host.dotGeneral dot_S320x256x2048_S320x2048x512_S320x256x512_2_1_1_2_0_0 none (rowsOf code hp) (planes be w)

/-- The rows' experts. -/
def exps : IVec S81920 32 := shapeCast _ (broadcastInDim S320x256 ![0] bcast_S320_S320x256_0 be) shapeCasts_S320x256_S81920

/-- Where the rows' experts end. -/
def ends : IVec S81920 32 :=
  Host.gather gather_S64_S81920x1_S81920_n_0_n_n_0_1_1 (extractStridedSlice S64 ![1] nb slices_S193_S64_1)
    (broadcastInDim S81920x1 ![0] bcast_S81920_S81920x1_0 (exps be))

/-- The rows' routing weights. -/
def weights : FVec Ideal S81920 .f32 :=
  Host.gather gather_S1048576_S81920x1_S81920_n_0_n_n_0_1_1 (shapeCast _ wt shapeCasts_S8192x128_S1048576)
    (broadcastInDim S81920x1 ![0] bcast_S81920_S81920x1_0 (addi (muli (toks code) (broadcastInDim S81920 ![] bcast_S_S81920 (constantI S_ 32 128#32))) (exps be)))

/-- The result, of its stages. -/
def out (v : IVec S81920 32) (fin : IVec S81920 32) (w : FVec Ideal S81920 .f32) (g u : FVec Ideal S320x256x512 .f32) : FVec Ideal S81920x512 .bf16 :=
  truncf .bf16 (shapeCast _ (select (broadcastInDim S320x256x512 ![0, 1, 2] bcast_S320x1x1_S320x256x512_0_1_2 (broadcastInDim S320x1x1 ![0] bcast_S320_S320x1x1_0 (cmpi .slt (iotaInDim S320 32 0) (broadcastInDim S320 ![] bcast_S_S320 (shapeCast _ (extractStridedSlice S1 ![0] nb slices_S193_S1_0) shapeCasts_S1_S_)))))
    (mulf (mulf (mulf g (Host.divf (broadcastInDim S320x256x512 ![] bcast_S_S320x256x512 (constant S_ .f32 0x3F800000#32)) (addf (broadcastInDim S320x256x512 ![] bcast_S_S320x256x512 (constant S_ .f32 0x3F800000#32)) (Host.exp (Host.negf g))))) u)
      (broadcastInDim S320x256x512 ![0, 1, 2] bcast_S320x256x1_S320x256x512_0_1_2 (shapeCast _ (select (cmpi .slt v fin) w (broadcastInDim S81920 ![] bcast_S_S81920 (id (constant S_ .f32 0x00000000#32)))) shapeCasts_S81920_S320x256x1)))
    (broadcastInDim S320x256x512 ![] bcast_S_S320x256x512 (id (constant S_ .f32 0x00000000#32)))) shapeCasts_S320x256x512_S81920x512) bitsLt_bf16_f32

/-- The reference's result is that of its stages. -/
theorem res_eq (m : (ℓ : Loc nD τ sig) → Buf (Elt Ideal) ℓ) (c : Dev nD) :
    Value.res_main_v43 m c = out (m ((c.tc : Thread nD τ).loc main_arg2)) (iotaInDim S81920 32 0)
      (ends (m ((c.tc : Thread nD τ).loc main_arg0)) (m ((c.tc : Thread nD τ).loc main_arg2)))
      (weights (m ((c.tc : Thread nD τ).loc main_arg0)) (m ((c.tc : Thread nD τ).loc main_arg1)) (m ((c.tc : Thread nD τ).loc main_arg4)))
      (prod (m ((c.tc : Thread nD τ).loc main_arg0)) (m ((c.tc : Thread nD τ).loc main_arg1)) (m ((c.tc : Thread nD τ).loc main_arg3)) (m ((c.tc : Thread nD τ).loc main_arg5)))
      (prod (m ((c.tc : Thread nD τ).loc main_arg0)) (m ((c.tc : Thread nD τ).loc main_arg1)) (m ((c.tc : Thread nD τ).loc main_arg3)) (m ((c.tc : Thread nD τ).loc main_arg6))) := rfl

/-! ## The takes -/

/-- A take of planes reads the plane its index names. -/
theorem planes_take (w : FVec Ideal S64x2048x512 .f32) (idx : IVec S320x1 32) (b : Fin 320) (k : Fin 2048) (f : Fin 512) (e : Fin 64)
    (h : idx (ix2 b 0) = BitVec.ofNat 32 e.val) :
    Host.gather gather_S64x2048x512_S320x1_S320x2048x512_12_0_n_n_0_1_12048512 w idx (ix3 b k f) = w (ix3 e k f) := by
  have he := e.isLt
  have hs : gather_S64x2048x512_S320x1_S320x2048x512_12_0_n_n_0_1_12048512.siIdx (ix3 b k f) ⟨0, by decide⟩ = ix2 b 0 := by
    funext a
    match a with
    | ⟨0, _⟩ => rfl
    | ⟨1, _⟩ => rfl
  unfold Host.gather
  refine congrArg w (funext fun a => Fin.ext ?_)
  match a with
  | ⟨0, _⟩ =>
    show min (idx (gather_S64x2048x512_S320x1_S320x2048x512_12_0_n_n_0_1_12048512.siIdx (ix3 b k f) ⟨0, by decide⟩)).toInt.toNat 63 + 0 + 0 = e.val
    rw [hs, h, toInt_ofNat_of_lt (by omega)]
    omega
  | ⟨1, _⟩ => show 0 + 0 + k.val = k.val; omega
  | ⟨2, _⟩ => show 0 + 0 + f.val = f.val; omega

theorem word_of (x : BitVec 32) : x = BitVec.ofNat 32 x.toNat := BitVec.eq_of_toNat_eq (toNat_ofNat_of_lt x.isLt).symm

theorem planes_at (w : FVec Ideal S64x2048x512 .f32) (b : Fin 320) (he : (be (ix1 b)).toNat < 64) (k : Fin 2048) (f : Fin 512) :
    planes be w (ix3 b k f) = w (ix3 ⟨(be (ix1 b)).toNat, he⟩ k f) := by
  refine planes_take w _ b k f ⟨_, he⟩ ?_
  pointwise
  exact word_of _

theorem toks_at (p : Fin 81920) : toks code (ix1 p) = tok (code (ix1 p)) := by
  pointwise [toks]
  rfl

theorem acts_at (t : Fin 8192) (k : Fin 2048) : acts hp (ix2 t k) = act hp t k := by
  pointwise [acts, pairs]
  have key : ∀ (i j : ℕ) (x y : S65536x128.Idx), i = j → x = y →
      Ideal.ofBits .bf16 ((hp x).extractLsb' i 16) = Ideal.ofBits .bf16 ((hp y).extractLsb' j 16) := by
    rintro i _ x _ rfl rfl; rfl
  have hk := k.isLt
  unfold act
  by_cases h : k.val < 1024
  · refine (dif_pos h).trans (key _ _ _ _ (by omega) ?_)
    exact congrArg₂ ix2 (Fin.ext (by show t.val * 8 + k.val / 128 = 8 * t.val + k.val % 1024 / 128; omega)) rfl
  · refine (dif_neg h).trans (key _ _ _ _ (by omega) ?_)
    exact congrArg₂ ix2 (Fin.ext (by show t.val * 8 + (k.val - 1024) / 128 = 8 * t.val + k.val % 1024 / 128; omega))
      (Fin.ext (by show (k.val - 1024) % 128 = k.val % 128; omega))

/-- A row's place. -/
def row (b : Fin 320) (r : Fin 256) : Fin 81920 := ⟨b.val * 256 + r.val, by omega⟩

theorem rowsOf_at (b : Fin 320) (r : Fin 256) (k : Fin 2048) : rowsOf code hp (ix3 b r k) = act hp (tokOf (code (ix1 (row b r)))) k := by
  pointwise [rowsOf]
  refine (Routing.gather_row _ rfl rfl rfl rfl rfl _ _ (row b r) k (tokOf (code (ix1 (row b r)))) ?_ (by decide)).trans (acts_at hp _ k)
  pointwise
  exact (toks_at code _).trans (word_of _)

theorem prod_at (w : FVec Ideal S64x2048x512 .f32) (b : Fin 320) (he : (be (ix1 b)).toNat < 64) (r : Fin 256) (f : Fin 512) :
    prod be code hp w (ix3 b r f) = dotAt hp w (tokOf (code (ix1 (row b r)))) ⟨(be (ix1 b)).toNat, he⟩ f := by
  pointwise [prod]
  refine Finset.sum_congr rfl fun k _ => ?_
  rw [rowsOf_at, planes_at be w b he]

theorem exps_at (b : Fin 320) (r : Fin 256) : exps be (ix1 (row b r)) = be (ix1 b) := by
  pointwise [exps]
  exact congrArg be (congrArg ix1 (Fin.ext (by show (b.val * 256 + r.val) / 256 = b.val; omega)))

theorem ends_at (b : Fin 320) (he : (be (ix1 b)).toNat < 64) (r : Fin 256) :
    ends be nb (ix1 (row b r)) = nb (ix1 ⟨1 + (be (ix1 b)).toNat, by omega⟩) := by
  unfold ends
  refine (Routing.gather_take1 _ rfl rfl rfl rfl _ _ (row b r) ⟨(be (ix1 b)).toNat, he⟩ ?_ (by decide)).trans ?_
  · pointwise
    exact (exps_at be b r).trans (word_of _)
  · pointwise

theorem weights_at (b : Fin 320) (he : (be (ix1 b)).toNat < 64) (r : Fin 256) :
    weights be code wt (ix1 (row b r)) = wt (ix2 (tokOf (code (ix1 (row b r)))) ⟨(be (ix1 b)).toNat, by omega⟩) := by
  have ht : (tok (code (ix1 (row b r)))).toNat < 8192 := tok_lt _
  unfold weights
  refine (Routing.gather_take1 _ rfl rfl rfl rfl _ _ (row b r)
    ⟨(tok (code (ix1 (row b r)))).toNat * 128 + (be (ix1 b)).toNat, by omega⟩ ?_ (by decide)).trans ?_
  · pointwise
    rw [toks_at, exps_at]
    refine BitVec.eq_of_toNat_eq ?_
    rw [toNat_ofNat_of_lt (by omega)]
    show (tok (code (ix1 (row b r))) * 128#32 + be (ix1 b)).toNat = _
    rw [BitVec.toNat_add, BitVec.toNat_mul]
    simp only [BitVec.toNat_ofNat]
    omega
  · pointwise
    exact congrArg wt (congrArg₂ ix2 (Fin.ext (by show ((tok (code (ix1 (row b r)))).toNat * 128 + (be (ix1 b)).toNat) / 128 = (tok (code (ix1 (row b r)))).toNat; omega))
      (Fin.ext (by show ((tok (code (ix1 (row b r)))).toNat * 128 + (be (ix1 b)).toNat) % 128 = (be (ix1 b)).toNat; omega)))

/-! ## The result -/

theorem out_at (v : IVec S81920 32) (fin : IVec S81920 32) (w : FVec Ideal S81920 .f32) (g u : FVec Ideal S320x256x512 .f32)
    (b : Fin 320) (r : Fin 256) (f : Fin 512) : out nb v fin w g u (ix2 (row b r) f)
      = Scalar.select (IntOp.cmpi .slt (BitVec.ofNat 32 b.val) (nb (ix1 0)))
          (Scalar.select (IntOp.cmpi .slt (v (ix1 (row b r))) (fin (ix1 (row b r))))
            ((show EReal from g (ix3 b r f)) * Ideal.logistic (g (ix3 b r f)) * (show EReal from u (ix3 b r f)) * (show EReal from w (ix1 (row b r)))) 0) 0 := by
  have hb : (⟨(row b r).val / 256, by have := (row b r).isLt; omega⟩ : Fin 320) = b := Fin.ext (by show (b.val * 256 + r.val) / 256 = b.val; omega)
  have hr : (⟨(row b r).val % 256, by omega⟩ : Fin 256) = r := Fin.ext (by show (b.val * 256 + r.val) % 256 = r.val; omega)
  pointwise [out]
  rw [hb, hr, show (row b r).val / 256 = b.val by show (b.val * 256 + r.val) / 256 = b.val; omega]
  have hz : (id (constant (F := Ideal) S_ .f32 0#32) ix0 : EReal) = 0 := Ideal.ofBits_zero_f32
  rw [hz]
  refine congrArg (fun x => Scalar.select _ x (0 : EReal)) ?_
  rcases bit_cases (IntOp.cmpi .slt (v (ix1 (row b r))) (fin (ix1 (row b r)))) with h | h
  · rw [h, sel_one, sel_one]; rfl
  · rw [h, sel_zero, sel_zero, mul_zero]

end Cert.MoeUp.Ref

end
-- ==== Proof.Value.lean ====
module

public import proofs.«01_k».proof.Proof.Runs
public import proofs.«01_k».proof.Proof.KernelAt
public import proofs.«01_k».proof.Proof.Ref

/-! Over the extended reals the kernel's result is the reference's, entry by entry. -/

@[expose] public section

noncomputable section

namespace Cert.MoeUp

open Idealize.ShloMosaic Idealize.SL.Sem WordCmp

/-! ## Places -/

theorem beAt_fin (be : KernelIdeal.S320.Idx → BitVec 32) (b : Fin 320) : beAt be b.val = be (ix1 b) :=
  congrArg be (congrArg ix1 (Fin.ext (by show min b.val 319 = b.val; omega)))

theorem codeIdx_fin (b : Fin 320) (r : Fin 256) : codeIdx b.val r.val = ix1 (Ref.row b r) :=
  congrArg ix1 (Fin.ext (by show min b.val 319 * 256 + r.val % 256 = b.val * 256 + r.val; omega))

theorem finOf_fin (nb : KernelIdeal.S193.Idx → BitVec 32) (e : BitVec 32) (he : e.toNat < 64) :
    finOf nb e = nb (ix1 ⟨1 + e.toNat, by omega⟩) :=
  congrArg nb (congrArg ix1 (Fin.ext (Nat.mod_eq_of_lt (by omega))))

theorem row_word (b : Fin 320) (r : Fin 256) :
    IntOp.addi (Scalar.muli (BitVec.ofNat 32 b.val) 256#32) (BitVec.ofNat 32 r.val) = BitVec.ofNat 32 (Ref.row b r).val := by
  refine BitVec.eq_of_toNat_eq ?_
  rw [toNat_ofNat_of_lt (by have := (Ref.row b r).isLt; omega)]
  show (BitVec.ofNat 32 b.val * 256#32 + BitVec.ofNat 32 r.val).toNat = b.val * 256 + r.val
  rw [BitVec.toNat_add, BitVec.toNat_mul]
  simp only [BitVec.toNat_ofNat]
  omega

/-! ## An entry -/

variable (D : Data Ideal) (P : Plan D.be D.nb)
include P

theorem rows_at (b : Fin 320) (he : (D.be (ix1 b)).toNat < 64) (r : Fin 256) (f : Fin 512) : D.rows b.val (ix2 r f)
    = Scalar.select (IntOp.cmpi .slt (BitVec.ofNat 32 b.val) (D.nb (ix1 0)))
        (cell D.hp D.wt D.wg D.wu (IntOp.cmpi .slt (BitVec.ofNat 32 (Ref.row b r).val) (D.nb (ix1 ⟨1 + (D.be (ix1 b)).toNat, by omega⟩)))
          (tokOf (D.code (ix1 (Ref.row b r)))) ⟨(D.be (ix1 b)).toNat, he⟩ f) 0 := by
  have hbe : D.e b.val = D.be (ix1 b) := beAt_fin D.be b
  have hn := word_slt b.val b.isLt D.n P.used_le
  have hv : D.value b.val (ix2 r f) = cell D.hp D.wt D.wg D.wu (IntOp.cmpi .slt (BitVec.ofNat 32 (Ref.row b r).val) (D.nb (ix1 ⟨1 + (D.be (ix1 b)).toNat, by omega⟩)))
          (tokOf (D.code (ix1 (Ref.row b r)))) ⟨(D.be (ix1 b)).toNat, he⟩ f := by
    rw [value_at D b.val (by rw [hbe]; exact he) r f, row_word, codeIdx_fin]
    have key : ∀ (e e' : BitVec 32) (h : e.toNat < 64) (h' : e'.toNat < 64), e = e' →
        cell D.hp D.wt D.wg D.wu (IntOp.cmpi .slt (BitVec.ofNat 32 (Ref.row b r).val) (finOf D.nb e)) (tokOf (D.code (ix1 (Ref.row b r)))) ⟨e.toNat, h⟩ f
          = cell D.hp D.wt D.wg D.wu (IntOp.cmpi .slt (BitVec.ofNat 32 (Ref.row b r).val) (D.nb (ix1 ⟨1 + e'.toNat, by omega⟩)))
              (tokOf (D.code (ix1 (Ref.row b r)))) ⟨e'.toNat, h'⟩ f := by
      rintro e _ h _ rfl
      rw [finOf_fin D.nb e h]
    exact key _ _ _ _ hbe
  unfold Data.rows
  by_cases h : b.val < D.n.toNat
  · have hw : IntOp.cmpi .slt (BitVec.ofNat 32 b.val) (D.nb (ix1 0)) = 1#1 := hn.mpr h
    rw [if_pos h, hw, sel_one, hv]
  · have hw : IntOp.cmpi .slt (BitVec.ofNat 32 b.val) (D.nb (ix1 0)) = 0#1 := (bit_cases _).resolve_left (fun e => h (hn.mp e))
    rw [if_neg h, hw, sel_zero]
    exact Ideal.ofBits_zero_bf16

/-- The reference's stages give the kernel's rows. -/
theorem out_rows (b : Fin 320) (r : Fin 256) (f : Fin 512) :
    Ref.out D.nb (iotaInDim ReferenceIdeal.S81920 32 0) (Ref.ends D.be D.nb) (Ref.weights D.be D.code D.wt) (Ref.prod D.be D.code D.hp D.wg)
      (Ref.prod D.be D.code D.hp D.wu) (ix2 (Ref.row b r) f) = D.rows b.val (ix2 r f) := by
  have he : (D.be (ix1 b)).toNat < 64 := by
    have := P.expert_lt b.val
    rwa [beAt_fin] at this
  rw [Ref.out_at, rows_at D P b he, Ref.ends_at _ _ b he, Ref.weights_at _ _ _ b he, Ref.prod_at _ _ _ _ b he, Ref.prod_at _ _ _ _ b he]
  rfl

end Cert.MoeUp

end
-- ==== Proof.Algebraic.lean ====
module

public import proofs.«01_k».proof.Proof.Value

/-! Over the extended reals the kernel and the reference end with the same result. -/

@[expose] public section

noncomputable section

namespace Cert.MoeUp

open Idealize.ShloMosaic Idealize.SL.Sem

/-- The reference's result, from the same arguments, is the kernel's. -/
theorem res_result (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (P : Plan (data m c).be (data m c).nb)
    (h0 : m' ((c.tc : Thread ReferenceIdeal.nD ReferenceIdeal.τ).loc ReferenceIdeal.main_arg0) = (data m c).be)
    (h1 : m' ((c.tc : Thread ReferenceIdeal.nD ReferenceIdeal.τ).loc ReferenceIdeal.main_arg1) = (data m c).code)
    (h2 : m' ((c.tc : Thread ReferenceIdeal.nD ReferenceIdeal.τ).loc ReferenceIdeal.main_arg2) = (data m c).nb)
    (h3 : m' ((c.tc : Thread ReferenceIdeal.nD ReferenceIdeal.τ).loc ReferenceIdeal.main_arg3) = (data m c).hp)
    (h4 : m' ((c.tc : Thread ReferenceIdeal.nD ReferenceIdeal.τ).loc ReferenceIdeal.main_arg4) = (data m c).wt)
    (h5 : m' ((c.tc : Thread ReferenceIdeal.nD ReferenceIdeal.τ).loc ReferenceIdeal.main_arg5) = (data m c).wg)
    (h6 : m' ((c.tc : Thread ReferenceIdeal.nD ReferenceIdeal.τ).loc ReferenceIdeal.main_arg6) = (data m c).wu) :
    ReferenceIdeal.Value.res_main_v43 m' c = result m c := by
  rw [Ref.res_eq, h0, h1, h2, h3, h4, h5, h6]
  funext y
  have hy : (y 0).val < 81920 := (y 0).isLt
  have e : y = ix2 (Ref.row ⟨(y 0).val / 256, by omega⟩ ⟨(y 0).val % 256, by omega⟩) (y 1) := by
    funext a
    match a with
    | ⟨0, _⟩ => exact Fin.ext (by show (y 0).val = (y 0).val / 256 * 256 + (y 0).val % 256; omega)
    | ⟨1, _⟩ => rfl
  exact (congrArg _ e).trans (out_rows (data m c) P ⟨(y 0).val / 256, by omega⟩ ⟨(y 0).val % 256, by omega⟩ (y 1))

/-- The kernel computes the reference. -/
theorem algebraic : @Cert.algebraic_KernelIdeal_ReferenceIdeal KernelIdeal.Gen.facts ReferenceIdeal.Gen.facts Pre_blocks_in_order.Gen.facts := by
  intro m g m' g' h hm
  have P := plan_ideal m h
  refine ⟨result m, (θ_run Cert.KernelIdeal.defs _ _).mono (fun _ h => h.1) (run_main m g P), ?_⟩
  refine (θ_run Cert.ReferenceIdeal.defs _ _).mono (fun r h c => ⟨(h c).1.trans ?_, (h c).2⟩) (ReferenceIdeal.Value.run m' g')
  obtain ⟨h0, h1, h2, h3, h4, h5, h6⟩ := hm c
  exact res_result m m' c (P c) h0 h1 h2 h3 h4 h5 h6

end Cert.MoeUp

end
-- ==== Proof.Proj.lean ====
module

public import proofs.«01_k».proof.Defs
public import proofs.«01_k».proof.Proof.Gen.Kernel3Ideal.Value
public import proofs.«01_k».proof.Proof.Gen.Reference3Ideal.Run
public import Idealize.ShloMosaic.Lib.Pointwise

/-! The layer's in-projection: each grid step multiplies 256 rows by the whole weight, in four column pieces. -/

@[expose] public section

noncomputable section

namespace Cert.Proj

open Cert.Kernel3Ideal Cert.Kernel3Ideal.Gen
open Idealize.ShloMosaic Idealize.ShloMosaic.TcCoe Idealize.SL.Sem

/-- A row times a column. -/
def colDot {n : ℕ} (x : FVec Ideal ⟨2, ![n, 2048]⟩ .f32) (w : FVec Ideal S2048x4096 .bf16) (p : Fin n) (j : Fin 4096) : EReal :=
  ∑ k : Fin 2048, (show EReal from x (ix2 p k)) * (show EReal from w (ix2 k j))

/-- Column `j` of the piece that starts at `o`, of the pieces that are 1024 wide. -/
theorem ld_piece (w : Vec Ideal S2048x4096 .bf16) (o : ℕ) (inb : ∀ a, (![0, o] : Fin 2 → Nat) a + S2048x1024.size a ≤ S2048x4096.size a)
    (k : Fin 2048) (j : Fin 1024) (h : o + j.val < 4096) :
    View.ld w (Rect.unit (s := S2048x4096) ![0, o] S2048x1024.size inb) (ix2 k j : S2048x1024.Idx) = w (ix2 k ⟨o + j.val, h⟩) := by
  refine congrArg w (funext fun (a : Fin 2) => Fin.ext ?_)
  match a with
  | ⟨0, _⟩ => show 0 + 1 * k.val = k.val; omega
  | ⟨1, _⟩ => show o + 1 * j.val = o + j.val; omega

theorem ld_rows (x : Vec Ideal S256x2048 .f32) : View.ld x r0_0 = x :=
  View.ld_unit_zero (by funext a; match a with | ⟨0, _⟩ => rfl | ⟨1, _⟩ => rfl) _ x

theorem pay2_at (x : Vec Ideal S256x2048 .f32) (w : Vec Ideal S2048x1024 .bf16) (p : Fin 256) (j : Fin 1024) :
    k0_pay2 x w (ix2 p j) = ∑ k : Fin 2048, (show EReal from x (ix2 p k)) * (show EReal from w (ix2 k j)) := by
  pointwise [k0_pay2, k0_pay1]
theorem pay3_at (x : Vec Ideal S256x2048 .f32) (w : Vec Ideal S2048x1024 .bf16) (p : Fin 256) (j : Fin 1024) :
    k0_pay3 x w (ix2 p j) = ∑ k : Fin 2048, (show EReal from x (ix2 p k)) * (show EReal from w (ix2 k j)) := by
  pointwise [k0_pay3, k0_pay1]
theorem pay4_at (x : Vec Ideal S256x2048 .f32) (w : Vec Ideal S2048x1024 .bf16) (p : Fin 256) (j : Fin 1024) :
    k0_pay4 x w (ix2 p j) = ∑ k : Fin 2048, (show EReal from x (ix2 p k)) * (show EReal from w (ix2 k j)) := by
  pointwise [k0_pay4, k0_pay1]
theorem pay5_at (x : Vec Ideal S256x2048 .f32) (w : Vec Ideal S2048x1024 .bf16) (p : Fin 256) (j : Fin 1024) :
    k0_pay5 x w (ix2 p j) = ∑ k : Fin 2048, (show EReal from x (ix2 p k)) * (show EReal from w (ix2 k j)) := by
  pointwise [k0_pay5, k0_pay1]

theorem off_piece (o : ℕ) (inb : ∀ a, (![0, o] : Fin 2 → Nat) a + S256x1024.size a ≤ S256x4096.size a) (p : Fin 256) (j : Fin 4096)
    (h : j.val < o ∨ o + 1024 ≤ j.val) : (ix2 p j : S256x4096.Idx) ∉ (Rect.unit (s := S256x4096) ![0, o] S256x1024.size inb).set :=
  Rect.not_mem_set_of_axis _ (ix2 p j : S256x4096.Idx) 1 o 1024 rfl rfl rfl h

theorem at_piece (o : ℕ) (inb : ∀ a, (![0, o] : Fin 2 → Nat) a + S256x1024.size a ≤ S256x4096.size a) (p : Fin 256) (j : Fin 4096)
    (h : o ≤ j.val ∧ j.val < o + 1024) : (Rect.unit (s := S256x4096) ![0, o] S256x1024.size inb).emb (ix2 p (⟨j.val - o, by omega⟩ : Fin 1024) : S256x1024.Idx) = (ix2 p j : S256x4096.Idx) :=
  Rect.emb_eq_of_coords _ _ _ fun (a : Fin 2) => by
    match a with
    | ⟨0, _⟩ => show p.val = 0 + 1 * p.val; omega
    | ⟨1, _⟩ => show j.val = o + 1 * (j.val - o); omega

/-- A piece is passed over off its own columns. -/
theorem canon_miss (o : ℕ) (inb : ∀ a, (![0, o] : Fin 2 → Nat) a + S256x1024.size a ≤ S256x4096.size a) (v : Vec Ideal S256x1024 .f32)
    (L : List (View.Piece (Elt Ideal) S256x4096 .f32)) (p : Fin 256) (j : Fin 4096) (h : j.val < o ∨ o + 1024 ≤ j.val) :
    View.canon (⟨Rect.unit (s := S256x4096) ![0, o] S256x1024.size inb, v⟩ :: L) (ix2 p j) = View.canon L (ix2 p j) :=
  View.canon_cons_of_not_mem _ _ (off_piece o inb p j h)

/-- A piece read under its own columns. -/
theorem canon_hit (o : ℕ) (inb : ∀ a, (![0, o] : Fin 2 → Nat) a + S256x1024.size a ≤ S256x4096.size a)
    (inw : ∀ a, (![0, o] : Fin 2 → Nat) a + S2048x1024.size a ≤ S2048x4096.size a)
    (x : Vec Ideal S256x2048 .f32) (w : Vec Ideal S2048x4096 .bf16)
    (f : Vec Ideal S256x2048 .f32 → Vec Ideal S2048x1024 .bf16 → FVec Ideal S256x1024 .f32)
    (hf : ∀ x w (p : Fin 256) (j : Fin 1024), f x w (ix2 p j) = ∑ k : Fin 2048, (show EReal from x (ix2 p k)) * (show EReal from w (ix2 k j)))
    (L : List (View.Piece (Elt Ideal) S256x4096 .f32)) (p : Fin 256) (j : Fin 4096) (h : o ≤ j.val ∧ j.val < o + 1024) :
    View.canon (⟨Rect.unit (s := S256x4096) ![0, o] S256x1024.size inb,
      f (View.ld x r0_0) (View.ld w (Rect.unit (s := S2048x4096) ![0, o] S2048x1024.size inw))⟩ :: L) (ix2 p j) = colDot x w p j := by
  refine (congrArg _ (at_piece o inb p j h).symm).trans ((View.canon_cons_emb _ _ L _).trans ((hf _ _ p ⟨j.val - o, by omega⟩).trans ?_))
  rw [ld_rows]
  refine Finset.sum_congr rfl fun k _ => congrArg (_ * ·) ?_
  refine (ld_piece w o inw k ⟨j.val - o, by omega⟩ (by show o + (j.val - o) < 4096; omega)).trans ?_
  exact congrArg w (congrArg (ix2 k) (Fin.ext (by show o + (j.val - o) = j.val; omega)))

/-- What a step leaves: its rows times every column. -/
theorem out_at (x : Vec Ideal S256x2048 .f32) (w : Vec Ideal S2048x4096 .bf16) (p : Fin 256) (j : Fin 4096) :
    out0_2 x w (ix2 p j) = colDot x w p j := by
  have hj := j.isLt
  unfold out0_2
  by_cases h3 : 3072 ≤ j.val
  · exact canon_hit 3072 _ _ x w k0_pay5 pay5_at _ p j ⟨h3, by omega⟩
  refine (canon_miss 3072 _ _ _ p j (.inl (by omega))).trans ?_
  by_cases h2 : 2048 ≤ j.val
  · exact canon_hit 2048 _ _ x w k0_pay4 pay4_at _ p j ⟨h2, by omega⟩
  refine (canon_miss 2048 _ _ _ p j (.inl (by omega))).trans ?_
  by_cases h1 : 1024 ≤ j.val
  · exact canon_hit 1024 _ _ x w k0_pay3 pay3_at _ p j ⟨h1, by omega⟩
  refine (canon_miss 1024 _ _ _ p j (.inl (by omega))).trans ?_
  exact canon_hit 0 _ _ x w k0_pay2 pay2_at _ p j ⟨by omega, by omega⟩

variable (m : (ℓ : Loc nD τ sig) → Buf (Elt Ideal) ℓ)

/-- The activations as rows. -/
def rows (c : Dev nD) : FVec Ideal S8192x2048 .f32 := shapeCast S8192x2048 (m ((c : Thread nD τ).loc main_arg0)) shapeCasts_S4x2048x2048_S8192x2048
/-- The weight, rounded. -/
def weight (c : Dev nD) : FVec Ideal S2048x4096 .bf16 :=
  truncf .bf16 (shapeCast S2048x4096 (m ((c : Thread nD τ).loc main_arg1)) shapeCasts_S1x2048x4096_S2048x4096) bitsLt_bf16_f32

theorem V_rows (c : Dev nD) : V m c main_v0 = rows m c := by
  show StableHlo.after hostOps0 _ _ = _
  unfold rows
  after_results <;> rfl
theorem V_weight (c : Dev nD) : V m c main_v2 = weight m c := by
  show StableHlo.after hostOps0 _ _ = _
  unfold weight
  after_results <;> rfl

theorem index_row : ∀ t : Fin grid0.N, win0_0.index t 0 = t.val ∧ win0_2.index t 0 = t.val := by decide +kernel

/-- A row of a step's block is one of the array's. -/
theorem rows_at (c : Dev nD) (t : Fin grid0.N) (p : Fin 256) (k : Fin 2048) (q : Fin 8192) (hq : q.val = t.val * 256 + p.val) :
    (iblk m c 0 t : Vec Ideal S256x2048 .f32) (ix2 p k) = rows m c (ix2 q k) := by
  unfold iblk
  rw [View.read_apply]
  refine Eq.trans ?_ (congrFun (V_rows m c) (ix2 q k))
  show V m c main_v0 _ = V m c main_v0 _
  refine congrArg _ (funext fun (a : Fin 2) => Fin.ext ?_)
  match a with
  | ⟨0, _⟩ => show win0_0.index t 0 * 256 + 1 * p.val = q.val; rw [(index_row t).1, hq]; omega
  | ⟨1, _⟩ => show 0 * 2048 + 1 * k.val = k.val; omega

theorem weight_at (c : Dev nD) (t : Fin grid0.N) (k : Fin 2048) (j : Fin 4096) :
    (iblk m c 1 t : Vec Ideal S2048x4096 .bf16) (ix2 k j) = weight m c (ix2 k j) := by
  unfold iblk
  rw [View.read_apply]
  refine Eq.trans ?_ (congrFun (V_weight m c) (ix2 k j))
  show V m c main_v2 _ = V m c main_v2 _
  refine congrArg _ (funext fun (a : Fin 2) => Fin.ext ?_)
  match a with
  | ⟨0, _⟩ => show 0 * 2048 + 1 * k.val = k.val; omega
  | ⟨1, _⟩ => show 0 * 4096 + 1 * j.val = j.val; omega

/-- The result, element by element. -/
theorem arr_at (c : Dev nD) (q : Fin 8192) (j : Fin 4096) :
    (dats m 0 c).arrAt 2 cfg0.N (ix2 q j : S8192x4096.Idx) = colDot (rows m c) (weight m c) q j := by
  have hN : grid0.N = 32 := by decide
  have hq := q.isLt
  let t : Fin grid0.N := ⟨q.val / 256, by omega⟩
  let p : Fin 256 := ⟨q.val % 256, Nat.mod_lt _ (by decide)⟩
  have b := congrFun (Value.blocks2 m c t (flush0_2 t)) (ix2 p j : S256x4096.Idx)
  rw [Value.flushed2, View.read_apply] at b
  have e : ((cfg0.win 2).blk t).view.emb (ix2 p j : S256x4096.Idx) = (ix2 q j : S8192x4096.Idx) := by
    refine funext fun (a : Fin 2) => Fin.ext ?_
    match a with
    | ⟨0, _⟩ => show win0_2.index t 0 * 256 + 1 * (q.val % 256) = q.val; rw [(index_row t).2]; show q.val / 256 * 256 + _ = _; omega
    | ⟨1, _⟩ => show 0 * 4096 + 1 * j.val = j.val; omega
  refine (congrArg _ e.symm).trans (Eq.trans ?_ (b.trans ((out_at (iblk m c 0 t) (iblk m c 1 t) p j).trans ?_)))
  · rfl
  · exact Finset.sum_congr rfl fun k _ => congr (congrArg _ (rows_at m c t p k q (by show q.val = q.val / 256 * 256 + q.val % 256; omega))) (weight_at m c t k j)

/-- The plain product, element by element. -/
theorem ref_at (x : FVec Ideal S4x2048x2048 .f32) (w : FVec Ideal S1x2048x4096 .f32) (q : Fin 8192) (j : Fin 4096) :
    (shapeCast S8192x4096 (Host.dotGeneral Reference3Ideal.dot_S4x2048x2048_S2048x4096_S4x2048x4096_2_0_01_1_n_n none x
      (shapeCast S2048x4096 w Reference3Ideal.Facts₀.shapeCasts_S1x2048x4096_S2048x4096)) Reference3Ideal.Facts₀.shapeCasts_S4x2048x4096_S8192x4096 : FVec Ideal S8192x4096 .f32) (ix2 q j)
      = colDot (shapeCast S8192x2048 x shapeCasts_S4x2048x2048_S8192x2048)
        (truncf .bf16 (shapeCast S2048x4096 w shapeCasts_S1x2048x4096_S2048x4096) bitsLt_bf16_f32) q j := by
  pointwise [colDot]

/-- The kernel computes the reference. -/
theorem algebraic : @Cert.algebraic_Kernel3Ideal_Reference3Ideal Kernel3Ideal.Gen.facts Reference3Ideal.Gen.facts := by
  intro m g m' g' _ hm
  refine ⟨_, Value.run_blocks m g, ?_⟩
  refine (θ_run Cert.Reference3Ideal.defs _ _).mono (fun r h c => ⟨(h c).1.trans ?_, (h c).2⟩) (Reference3Ideal.Value.run m' g')
  obtain ⟨h0, h1⟩ := hm c
  rw [h0, h1]
  funext y
  have e : y = (ix2 (y 0) (y 1) : S8192x4096.Idx) := by
    funext a
    match a with
    | ⟨0, _⟩ => rfl
    | ⟨1, _⟩ => rfl
  rw [e]
  exact (ref_at _ _ (y 0) (y 1)).trans (arr_at m c (y 0) (y 1)).symm

end Cert.Proj

end
-- ==== Proof.FinalRef.lean ====
module

public import proofs.«01_k».proof.Defs
public import proofs.«01_k».proof.Proof.Gen.Reference2Ideal.Run
public import Idealize.ShloMosaic.Lib.Pointwise

/-! The layer's last step as its definition states it, read element by element: the residual sum and its normalisation. -/

@[expose] public section

noncomputable section

namespace Cert.Final

open Cert.Reference2Ideal Cert.Reference2Ideal.Gen
open Idealize.ShloMosaic Idealize.ShloMosaic.TcCoe Idealize.SL.Sem

/-- A row's length, as the number the programs divide by. -/
def len : EReal := Ideal.ofBits .f32 0x45000000#32

def mean (z : Fin 2048 → EReal) : EReal := Ideal.div (∑ x, z x) len

/-- A row, normalised, scaled and shifted. -/
def norm (z g b : Fin 2048 → EReal) (j : Fin 2048) : EReal :=
  (z j - mean z) * Ideal.rsqrt (Ideal.div (∑ x, (z x - mean z) * (z x - mean z)) len + Ideal.ofBits .f32 0x3727C5AC#32) * g j + b j

/-- A row times a column of a weight. -/
def proj {n k : ℕ} (x : FVec Ideal ⟨2, ![n, 2048]⟩ .f32) (w : FVec Ideal ⟨2, ![2048, k]⟩ .f32) (p : Fin n) (f : Fin k) : EReal :=
  ∑ i : Fin 2048, (show EReal from x (ix2 p i)) * (show EReal from w (ix2 i f))

/-- The shared expert at an element. -/
def expert {n : ℕ} (x : FVec Ideal ⟨2, ![n, 2048]⟩ .f32) (wg wu : FVec Ideal S2048x512 .f32) (wd : FVec Ideal S512x2048 .f32)
    (p : Fin n) (j : Fin 2048) : EReal :=
  ∑ f : Fin 512, (proj x wg p f * Ideal.logistic (proj x wg p f) * proj x wu p f) * (show EReal from wd (ix2 f j))

/-- The routed experts' sum of token `t` at feature `j`: half `j / 1024`, eight rows of 128 to a token. -/
def routed (r : FVec Ideal S2x65544x128 .f32) (t : Fin 8192) (j : Fin 2048) : EReal :=
  r (ix3 (⟨j.val / 1024, by omega⟩ : Fin 2) (⟨t.val * 8 + j.val % 1024 / 128, by omega⟩ : Fin 65544) (⟨j.val % 128, by omega⟩ : Fin 128))

def scaleOf : EReal := Ideal.ofBits .f32 0x3F9837F0#32

/-- The residual sum at an element. -/
def total (h : FVec Ideal S8192x2048 .f32) (r : FVec Ideal S2x65544x128 .f32) (wg wu : FVec Ideal S2048x512 .f32) (wd : FVec Ideal S512x2048 .f32)
    (t : Fin 8192) (j : Fin 2048) : EReal :=
  scaleOf * (show EReal from h (ix2 t j)) + (routed r t j + expert h wg wu wd t j)

def meanHost (z : FVec Ideal S8192x2048 .f32) : FVec Ideal S8192x1 .f32 :=
  Host.divf (broadcastInDim S8192x1 ![0] bcast_S8192_S8192x1_0 (Host.reduceAdd z (constant S_ .f32 0x00000000#32) reducesTo_S8192x2048_S8192_d1 h_S_))
    (broadcastInDim S8192x1 ![] bcast_S_S8192x1 (constant S_ .f32 0x45000000#32))

def devHost (z : FVec Ideal S8192x2048 .f32) : FVec Ideal S8192x2048 .f32 :=
  subf z (broadcastInDim S8192x2048 ![0, 1] bcast_S8192x1_S8192x2048_0_1 (meanHost z))

def rowHost (g : FVec Ideal S1x2048 .f32) : FVec Ideal S8192x2048 .f32 :=
  broadcastInDim S8192x2048 ![0, 1] bcast_S1x2048_S8192x2048_0_1 (broadcastInDim S1x2048 ![1] bcast_S2048_S1x2048_1 (shapeCast S2048 g shapeCasts_S1x2048_S2048))

def normHost (z : FVec Ideal S8192x2048 .f32) (g b : FVec Ideal S1x2048 .f32) : FVec Ideal S8192x2048 .f32 :=
  addf (mulf (mulf (devHost z) (broadcastInDim S8192x2048 ![0, 1] bcast_S8192x1_S8192x2048_0_1
    (Host.rsqrt (addf (meanHost (mulf (devHost z) (devHost z))) (broadcastInDim S8192x1 ![] bcast_S_S8192x1 (constant S_ .f32 0x3727C5AC#32))))))
    (rowHost g)) (rowHost b)

def halfHost (r : FVec Ideal S2x65544x128 .f32) (o : ℕ) (hs : S2x8192x1024.Slices ![o, 0, 0] S1x8192x1024) : FVec Ideal S8192x1024 .f32 :=
  shapeCast _ (extractStridedSlice S1x8192x1024 ![o, 0, 0] (shapeCast _ (extractStridedSlice S2x65536x128 ![0, 0, 0] r slices_S2x65544x128_S2x65536x128_0_0_0)
    shapeCasts_S2x65536x128_S2x8192x1024) hs) shapeCasts_S1x8192x1024_S8192x1024

def routedHost (r : FVec Ideal S2x65544x128 .f32) : FVec Ideal S8192x2048 .f32 :=
  concatenate S8192x2048 1 [⟨S8192x1024, halfHost r 0 slices_S2x8192x1024_S1x8192x1024_0_0_0⟩, ⟨S8192x1024, halfHost r 1 slices_S2x8192x1024_S1x8192x1024_1_0_0⟩]
    concatenates_S8192x1024_S8192x1024_S8192x2048_d1

def gateHost (h : FVec Ideal S8192x2048 .f32) (w : FVec Ideal S1x2048x512 .f32) : FVec Ideal S8192x512 .f32 :=
  Host.dotGeneral dot_S8192x2048_S2048x512_S8192x512_1_0_0_1_n_n none h (shapeCast _ w shapeCasts_S1x2048x512_S2048x512)

def oneHost : FVec Ideal S8192x512 .f32 := broadcastInDim S8192x512 ![] bcast_S_S8192x512 (constant S_ .f32 0x3F800000#32)

def actHost (g : FVec Ideal S8192x512 .f32) : FVec Ideal S8192x512 .f32 := mulf g (Host.divf oneHost (addf oneHost (Host.exp (Host.negf g))))

def expertHost (h : FVec Ideal S8192x2048 .f32) (wg wu : FVec Ideal S1x2048x512 .f32) (wd : FVec Ideal S1x512x2048 .f32) : FVec Ideal S8192x2048 .f32 :=
  Host.dotGeneral dot_S8192x512_S512x2048_S8192x2048_1_0_0_1_n_n none (mulf (actHost (gateHost h wg)) (gateHost h wu))
    (shapeCast _ wd shapeCasts_S1x512x2048_S512x2048)

def totalHost (h : FVec Ideal S8192x2048 .f32) (r : FVec Ideal S2x65544x128 .f32) (wg wu : FVec Ideal S1x2048x512 .f32) (wd : FVec Ideal S1x512x2048 .f32) :
    FVec Ideal S8192x2048 .f32 :=
  addf (mulf (broadcastInDim S8192x2048 ![] bcast_S_S8192x2048 (constant S_ .f32 0x3F9837F0#32)) h) (addf (routedHost r) (expertHost h wg wu wd))

theorem normHost_at (z : FVec Ideal S8192x2048 .f32) (g b : FVec Ideal S1x2048 .f32) (t : Fin 8192) (j : Fin 2048) :
    normHost z g b (ix2 t j) = norm (fun x => z (ix2 t x)) (fun x => g (ix2 (0 : Fin 1) x)) (fun x => b (ix2 (0 : Fin 1) x)) j := by
  pointwise [normHost, devHost, meanHost, rowHost, norm, mean, len]

theorem gateHost_at (h : FVec Ideal S8192x2048 .f32) (w : FVec Ideal S1x2048x512 .f32) (t : Fin 8192) (f : Fin 512) :
    gateHost h w (ix2 t f) = proj h (shapeCast S2048x512 w shapeCasts_S1x2048x512_S2048x512) t f := by
  pointwise [gateHost, proj]

theorem actHost_at (g : FVec Ideal S8192x512 .f32) (t : Fin 8192) (f : Fin 512) :
    actHost g (ix2 t f) = (show EReal from g (ix2 t f)) * Ideal.logistic (g (ix2 t f)) := by
  have h1 : Ideal.ofBits .f32 0x3F800000#32 = 1 := IdealRules.sign_bit.ideal_onePat .f32
  unfold Ideal.logistic
  rw [← h1]
  pointwise [actHost, oneHost]

theorem expertHost_at (h : FVec Ideal S8192x2048 .f32) (wg wu : FVec Ideal S1x2048x512 .f32) (wd : FVec Ideal S1x512x2048 .f32) (t : Fin 8192) (j : Fin 2048) :
    expertHost h wg wu wd (ix2 t j) = expert h (shapeCast S2048x512 wg shapeCasts_S1x2048x512_S2048x512) (shapeCast S2048x512 wu shapeCasts_S1x2048x512_S2048x512)
      (shapeCast S512x2048 wd shapeCasts_S1x512x2048_S512x2048) t j := by
  have e : expertHost h wg wu wd (ix2 t j) = ∑ f : Fin 512, ((show EReal from actHost (gateHost h wg) (ix2 t f)) * (show EReal from gateHost h wu (ix2 t f)))
      * (show EReal from (shapeCast S512x2048 wd shapeCasts_S1x512x2048_S512x2048 : FVec Ideal S512x2048 .f32) (ix2 f j)) := by
    pointwise [expertHost]
  refine e.trans (Finset.sum_congr rfl fun f _ => ?_)
  rw [actHost_at, gateHost_at, gateHost_at]

theorem halfHost_at (r : FVec Ideal S2x65544x128 .f32) (o : ℕ) (ho : o < 2) (hs : S2x8192x1024.Slices ![o, 0, 0] S1x8192x1024) (t : Fin 8192) (j : Fin 1024) :
    halfHost r o hs (ix2 t j) = r (ix3 (⟨o, ho⟩ : Fin 2) (⟨t.val * 8 + j.val / 128, by omega⟩ : Fin 65544) (⟨j.val % 128, by omega⟩ : Fin 128)) := by
  pointwise [halfHost]

def halves (r : FVec Ideal S2x65544x128 .f32) : Fin 2 → FVec Ideal S8192x1024 .f32 := fun n => match n with
  | ⟨0, _⟩ => halfHost r 0 slices_S2x8192x1024_S1x8192x1024_0_0_0
  | ⟨1, _⟩ => halfHost r 1 slices_S2x8192x1024_S1x8192x1024_1_0_0

theorem halves_at (r : FVec Ideal S2x65544x128 .f32) (n : Fin 2) (t : Fin 8192) (j : Fin 1024) :
    halves r n (ix2 t j) = r (ix3 n (⟨t.val * 8 + j.val / 128, by omega⟩ : Fin 65544) (⟨j.val % 128, by omega⟩ : Fin 128)) := by
  match n with
  | ⟨0, _⟩ => exact halfHost_at r 0 (by decide) _ t j
  | ⟨1, _⟩ => exact halfHost_at r 1 (by decide) _ t j

theorem routedHost_at (r : FVec Ideal S2x65544x128 .f32) (t : Fin 8192) (j : Fin 2048) : routedHost r (ix2 t j) = routed r t j := by
  have hj := j.isLt
  unfold routed
  let n : Fin 2 := ⟨j.val / 1024, by omega⟩
  let i : Fin 1024 := ⟨j.val % 1024, by omega⟩
  have e : routedHost r (ix2 t j) = halves r n (ix2 t i) :=
    concatenate_ofFn_apply (t := S8192x2048) (s₁ := S8192x1024) (1 : Fin 2) (halves r) (by exact concatenates_S8192x1024_S8192x1024_S8192x2048_d1) rfl 1024 rfl (ix2 t j : S8192x2048.Idx) n rfl (ix2 t i) rfl
      (fun (b : Fin 2) hb => match b, hb with
        | ⟨0, _⟩, _ => rfl
        | ⟨1, _⟩, hb => absurd rfl hb)
  rw [e, halves_at]
  refine congrArg r (congrArg (ix3 n _) (Fin.ext ?_))
  show j.val % 1024 % 128 = j.val % 128
  omega

theorem totalHost_at (h : FVec Ideal S8192x2048 .f32) (r : FVec Ideal S2x65544x128 .f32) (wg wu : FVec Ideal S1x2048x512 .f32) (wd : FVec Ideal S1x512x2048 .f32)
    (t : Fin 8192) (j : Fin 2048) :
    totalHost h r wg wu wd (ix2 t j) = total h r (shapeCast S2048x512 wg shapeCasts_S1x2048x512_S2048x512) (shapeCast S2048x512 wu shapeCasts_S1x2048x512_S2048x512)
      (shapeCast S512x2048 wd shapeCasts_S1x512x2048_S512x2048) t j := by
  unfold total
  rw [← routedHost_at, ← expertHost_at]
  pointwise [totalHost, scaleOf]

theorem res_eq (m : (ℓ : Loc nD τ sig) → Buf (Elt Ideal) ℓ) (c : Dev nD) :
    Reference2Ideal.Value.res_main_v44 m c = normHost (totalHost (m ((c : Thread nD τ).loc main_arg0)) (m ((c : Thread nD τ).loc main_arg1))
      (m ((c : Thread nD τ).loc main_arg2)) (m ((c : Thread nD τ).loc main_arg3)) (m ((c : Thread nD τ).loc main_arg4)))
      (m ((c : Thread nD τ).loc main_arg5)) (m ((c : Thread nD τ).loc main_arg6)) := rfl

end Cert.Final

end
-- ==== Proof.Final.lean ====
module

public import proofs.«01_k».proof.Proof.FinalRef
public import proofs.«01_k».proof.Proof.Gen.Kernel2Ideal.Value
public import Idealize.ShloMosaic.Lib.Pipeline.ValueKit.Acc

/-! The layer's last step as its kernel computes it: each grid step adds up and normalises 256 tokens. -/

@[expose] public section

noncomputable section

namespace Cert.Final

open Cert.Kernel2Ideal Cert.Kernel2Ideal.Gen
open Idealize.ShloMosaic Idealize.ShloMosaic.TcCoe Idealize.SL.Sem

/-- The sixteen column groups of a step's routed sums, side by side. -/
def groups (x1 x2 : Vec Ideal S1x2048x128 .f32) : FVec Ideal S256x2048 .f32 :=
  k0_pay1 (k0_pay5 x2) (k0_pay6 x1) (k0_pay7 x1) (k0_pay8 x1) (k0_pay9 x1) (k0_pay10 x1) (k0_pay11 x1) (k0_pay12 x1) (k0_pay13 x1)
    (k0_pay14 x2) (k0_pay15 x2) (k0_pay16 x2) (k0_pay17 x2)

/-- What a step writes, from what it reads. -/
def rowsOut (x0 : Vec Ideal S256x2048 .f32) (x1 x2 : Vec Ideal S1x2048x128 .f32) (x3 : Vec Ideal S2048x1024 .bf16) (x4 : Vec Ideal S512x2048 .bf16)
    (x5 x6 : Vec Ideal S1x2048 .f32) : FVec Ideal S256x2048 .f32 :=
  k0_pay2 (k0_pay3 x0 x3 x4) (groups x1 x2) x0 x5 x6

theorem out_eq (c : Dev nD) (i : grid0.Coords) (arg1 : Memref sig .tc .vmem S256x2048 .f32) (harg1 : arg1.IsWhole)
    (arg2 : Memref sig .tc .vmem S1x2048x128 .f32) (harg2 : arg2.IsWhole) (arg3 : Memref sig .tc .vmem S1x2048x128 .f32) (harg3 : arg3.IsWhole)
    (arg4 : Memref sig .tc .vmem S2048x1024 .bf16) (harg4 : arg4.IsWhole) (arg5 : Memref sig .tc .vmem S512x2048 .bf16) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S256x2048 .f32) (harg8 : arg8.IsWhole)
    (x0 : Vec Ideal S256x2048 .f32) (x1 x2 : Vec Ideal S1x2048x128 .f32) (x3 : Vec Ideal S2048x1024 .bf16) (x4 : Vec Ideal S512x2048 .bf16)
    (x5 x6 : Vec Ideal S1x2048 .f32) :
    out0_A_7 c i arg1 harg1 arg2 harg2 arg3 harg3 arg4 harg4 arg5 harg5 arg6 harg6 arg7 harg7 arg8 harg8 x0 x1 x2 x3 x4 x5 x6
      = rowsOut x0 x1 x2 x3 x4 x5 x6 := by
  unfold rowsOut groups
  frame_out

def plane (x : Vec Ideal S1x2048x128 .f32) (q : ℕ) (hs : S8x256x128.Slices ![q, 0, 0] S1x256x128) : FVec Ideal S256x128 .f32 :=
  shapeCast S256x128 (extractStridedSlice S1x256x128 ![q, 0, 0] (k0_pay4 x) hs) shapeCasts_S1x256x128_S256x128

theorem plane_at (x : Vec Ideal S1x2048x128 .f32) (q : ℕ) (hq : q < 8) (hs : S8x256x128.Slices ![q, 0, 0] S1x256x128) (p : Fin 256) (j : Fin 128) :
    plane x q hs (ix2 p j) = x (ix3 (0 : Fin 1) (⟨p.val * 8 + q, by omega⟩ : Fin 2048) j) := by
  pointwise [plane, k0_pay4]

theorem slices_plane (q : Fin 8) : S8x256x128.Slices ![q.val, 0, 0] S1x256x128 := by revert q; decide

def planes (x1 x2 : Vec Ideal S1x2048x128 .f32) (n : Fin 16) : FVec Ideal S256x128 .f32 :=
  if h : n.val < 8 then plane x1 n.val (slices_plane ⟨n.val, h⟩) else plane x2 (n.val - 8) (slices_plane ⟨n.val - 8, by omega⟩)

theorem groups_eq (x1 x2 : Vec Ideal S1x2048x128 .f32) :
    groups x1 x2 = concatenate S256x2048 1 (List.ofFn fun n : Fin 16 => (⟨S256x128, planes x1 x2 n⟩ : (s : Shape) × (s.Idx → Elt Ideal .f32)))
      (by exact concatenates_S256x128_S256x128_S256x128_S256x128_S256x128_S256x128_S256x128_S256x128_S256x128_S256x128_S256x128_S256x128_S256x128_S256x128_S256x128_S256x128_S256x2048_d1) := rfl

theorem norm_at (v13 v54 : FVec Ideal S256x2048 .f32) (v55 : Vec Ideal S256x2048 .f32) (v60 v62 : Vec Ideal S1x2048 .f32) (p : Fin 256) (j : Fin 2048) :
    k0_pay2 v13 v54 v55 v60 v62 (ix2 p j) = norm (fun x => scaleOf * (show EReal from v55 (ix2 p x)) + (show EReal from v54 (ix2 p x)) + (show EReal from v13 (ix2 p x)))
      (fun x => v60 (ix2 (0 : Fin 1) x)) (fun x => v62 (ix2 (0 : Fin 1) x)) j := by
  pointwise [k0_pay2, norm, mean, len, scaleOf]

theorem groups_at (x1 x2 : Vec Ideal S1x2048x128 .f32) (p : Fin 256) (j : Fin 2048) :
    groups x1 x2 (ix2 p j) = (if j.val < 1024 then x1 else x2) (ix3 (0 : Fin 1) (⟨p.val * 8 + j.val % 1024 / 128, by omega⟩ : Fin 2048) (⟨j.val % 128, by omega⟩ : Fin 128)) := by
  have hj := j.isLt
  let n : Fin 16 := ⟨j.val / 128, by omega⟩
  let i : Fin 128 := ⟨j.val % 128, by omega⟩
  have e : groups x1 x2 (ix2 p j) = planes x1 x2 n (ix2 p i) := by
    rw [groups_eq]
    exact concatenate_ofFn_apply (t := S256x2048) (s₁ := S256x128) (1 : Fin 2) (planes x1 x2) _ rfl 128 rfl (ix2 p j : S256x2048.Idx) n rfl (ix2 p i) rfl
      (fun (b : Fin 2) hb => match b, hb with
        | ⟨0, _⟩, _ => rfl
        | ⟨1, _⟩, hb => absurd rfl hb)
  rw [e]
  unfold planes
  by_cases h : j.val < 1024
  · have hn : n.val < 8 := by show j.val / 128 < 8; omega
    rw [dif_pos hn, if_pos h, plane_at _ _ hn]
    exact congrArg x1 (congrArg (ix3 _ · _) (Fin.ext (by show p.val * 8 + j.val / 128 = p.val * 8 + j.val % 1024 / 128; omega)))
  · have hn : ¬ n.val < 8 := by show ¬ j.val / 128 < 8; omega
    rw [dif_neg hn, if_neg h, plane_at _ _ (by show j.val / 128 - 8 < 8; omega)]
    exact congrArg x2 (congrArg (ix3 _ · _) (Fin.ext (by show p.val * 8 + (j.val / 128 - 8) = p.val * 8 + j.val % 1024 / 128; omega)))

/-- Column `f` of the half of the joint weight that starts at `o`. -/
def half (w : FVec Ideal S2048x1024 .bf16) (o : ℕ) (ho : o ≤ 512) : FVec Ideal S2048x512 .f32 :=
  fun y => w (ix2 (y 0 : Fin 2048) (⟨o + (y 1).val, by have h : (y 1).val < 512 := (y 1).isLt; omega⟩ : Fin 1024))

theorem expert_at (x : Vec Ideal S256x2048 .f32) (w : Vec Ideal S2048x1024 .bf16) (d : Vec Ideal S512x2048 .bf16) (p : Fin 256) (j : Fin 2048) :
    k0_pay3 x w d (ix2 p j) = expert x (half w 0 (by decide)) (half w 512 (by decide)) d p j := by
  pointwise [k0_pay3, expert, proj, half]

variable (m : (ℓ : Loc nD τ sig) → Buf (Elt Ideal) ℓ)

abbrev hid (c : Dev nD) : FVec Ideal S8192x2048 .f32 := m ((c : Thread nD τ).loc main_arg0)
abbrev sums (c : Dev nD) : FVec Ideal S2x65544x128 .f32 := m ((c : Thread nD τ).loc main_arg1)
abbrev wgate (c : Dev nD) : FVec Ideal S2048x512 .f32 := shapeCast S2048x512 (m ((c : Thread nD τ).loc main_arg2)) shapeCasts_S1x2048x512_S2048x512
abbrev wup (c : Dev nD) : FVec Ideal S2048x512 .f32 := shapeCast S2048x512 (m ((c : Thread nD τ).loc main_arg3)) shapeCasts_S1x2048x512_S2048x512
abbrev wdown (c : Dev nD) : FVec Ideal S512x2048 .f32 := shapeCast S512x2048 (m ((c : Thread nD τ).loc main_arg4)) shapeCasts_S1x512x2048_S512x2048

/-- The two input weights side by side. -/
def wboth (c : Dev nD) : FVec Ideal S2048x1024 .bf16 :=
  truncf .bf16 (concatenate S2048x1024 1 [⟨S2048x512, wgate m c⟩, ⟨S2048x512, wup m c⟩] concatenates_S2048x512_S2048x512_S2048x1024_d1) bitsLt_bf16_f32
def vec (g : FVec Ideal S1x2048 .f32) : FVec Ideal S1x2048 .f32 := shapeCast S1x2048 (shapeCast S2048 g shapeCasts_S1x2048_S2048) shapeCasts_S2048_S1x2048

theorem V_wboth (c : Dev nD) : V m c main_v3 = wboth m c := by
  show StableHlo.after hostOps0 _ _ = _
  unfold wboth
  after_results <;> rfl
theorem V_wdown (c : Dev nD) : V m c main_v5 = truncf .bf16 (wdown m c) bitsLt_bf16_f32 := by
  show StableHlo.after hostOps0 _ _ = _
  after_results <;> rfl
theorem V_gain (c : Dev nD) : V m c main_v7 = vec (m ((c : Thread nD τ).loc main_arg5)) := by
  show StableHlo.after hostOps0 _ _ = _
  unfold vec
  after_results <;> rfl
theorem V_shift (c : Dev nD) : V m c main_v9 = vec (m ((c : Thread nD τ).loc main_arg6)) := by
  show StableHlo.after hostOps0 _ _ = _
  unfold vec
  after_results <;> rfl

/-- A column of the joint weight is a column of the one or of the other. -/
theorem wboth_at (c : Dev nD) (n : Fin 2) (k : Fin 2048) (f : Fin 512) (i : Fin 1024) (hi : i.val = n.val * 512 + f.val) :
    wboth m c (ix2 k i) = (if n = 0 then wgate m c else wup m c) (ix2 k f) := by
  have hf := f.isLt
  let g : Fin 2 → FVec Ideal S2048x512 .f32 := fun n => if n = 0 then wgate m c else wup m c
  exact concatenate_ofFn_apply (t := S2048x1024) (s₁ := S2048x512) (1 : Fin 2) g (by exact concatenates_S2048x512_S2048x512_S2048x1024_d1) rfl 512 rfl
    (ix2 k i : S2048x1024.Idx) n (by show i.val / 512 = n.val; omega) (ix2 k f) (by show f.val = i.val % 512; omega)
    (fun (b : Fin 2) hb => match b, hb with
      | ⟨0, _⟩, _ => rfl
      | ⟨1, _⟩, hb => absurd rfl hb)

theorem wboth_gate (c : Dev nD) : half (wboth m c) 0 (by decide) = wgate m c := by
  funext y
  refine (wboth_at m c 0 (y 0) (y 1) _ (by show 0 + (y 1).val = 0 * 512 + (y 1).val; omega)).trans (congrArg (wgate m c) ?_)
  funext a
  match a with
  | ⟨0, _⟩ => rfl
  | ⟨1, _⟩ => rfl
theorem wboth_up (c : Dev nD) : half (wboth m c) 512 (by decide) = wup m c := by
  funext y
  refine (wboth_at m c 1 (y 0) (y 1) _ (by show 512 + (y 1).val = 1 * 512 + (y 1).val; omega)).trans (congrArg (wup m c) ?_)
  funext a
  match a with
  | ⟨0, _⟩ => rfl
  | ⟨1, _⟩ => rfl

theorem vec_at (g : FVec Ideal S1x2048 .f32) (x : Fin 2048) : vec g (ix2 (0 : Fin 1) x) = g (ix2 (0 : Fin 1) x) := by
  pointwise [vec]

theorem index_row : ∀ t : Fin grid0.N, win0_0.index t 0 = t.val ∧ win0_7.index t 0 = t.val := by decide +kernel
theorem index_sums : ∀ t : Fin grid0.N, (win0_1.index t 0 = 0 ∧ win0_1.index t 1 = t.val) ∧ (win0_2.index t 0 = 1 ∧ win0_2.index t 1 = t.val) := by decide +kernel

theorem hid_at (c : Dev nD) (t : Fin grid0.N) (p : Fin 256) (k : Fin 2048) (q : Fin 8192) (hq : q.val = t.val * 256 + p.val) :
    (iblk m c 0 t : Vec Ideal S256x2048 .f32) (ix2 p k) = hid m c (ix2 q k) := by
  unfold iblk
  rw [View.read_apply]
  refine Eq.trans ?_ (congrFun (V_main_arg0 m c) (ix2 q k))
  show V m c main_arg0 _ = V m c main_arg0 _
  refine congrArg _ (funext fun (a : Fin 2) => Fin.ext ?_)
  match a with
  | ⟨0, _⟩ => show win0_0.index t 0 * 256 + 1 * p.val = q.val; rw [(index_row t).1, hq]; omega
  | ⟨1, _⟩ => show 0 * 2048 + 1 * k.val = k.val; omega

theorem sums1_at (c : Dev nD) (t : Fin grid0.N) (p : Fin 2048) (k : Fin 128) (q : Fin 65544) (hq : q.val = t.val * 2048 + p.val) :
    (X0_1 m c t : Vec Ideal S1x2048x128 .f32) (ix3 (0 : Fin 1) p k) = sums m c (ix3 (0 : Fin 2) q k) := by
  unfold X0_1 Pipeline.Window.fill
  rw [dif_pos (moved0_1 t _)]
  unfold iblk
  rw [View.read_apply]
  refine Eq.trans ?_ (congrFun (V_main_arg1 m c) (ix3 (0 : Fin 2) q k))
  show V m c main_arg1 _ = V m c main_arg1 _
  refine congrArg _ (funext fun (a : Fin 3) => Fin.ext ?_)
  match a with
  | ⟨0, _⟩ => show win0_1.index t 0 * 1 + 1 * 0 = 0; rw [(index_sums t).1.1]
  | ⟨1, _⟩ => show win0_1.index t 1 * 2048 + 1 * p.val = q.val; rw [(index_sums t).1.2, hq]; omega
  | ⟨2, _⟩ => show 0 * 128 + 1 * k.val = k.val; omega

theorem sums2_at (c : Dev nD) (t : Fin grid0.N) (p : Fin 2048) (k : Fin 128) (q : Fin 65544) (hq : q.val = t.val * 2048 + p.val) :
    (X0_2 m c t : Vec Ideal S1x2048x128 .f32) (ix3 (0 : Fin 1) p k) = sums m c (ix3 (1 : Fin 2) q k) := by
  unfold X0_2 Pipeline.Window.fill
  rw [dif_pos (moved0_2 t _)]
  unfold iblk
  rw [View.read_apply]
  refine Eq.trans ?_ (congrFun (V_main_arg1 m c) (ix3 (1 : Fin 2) q k))
  show V m c main_arg1 _ = V m c main_arg1 _
  refine congrArg _ (funext fun (a : Fin 3) => Fin.ext ?_)
  match a with
  | ⟨0, _⟩ => show win0_2.index t 0 * 1 + 1 * 0 = 1; rw [(index_sums t).2.1]
  | ⟨1, _⟩ => show win0_2.index t 1 * 2048 + 1 * p.val = q.val; rw [(index_sums t).2.2, hq]; omega
  | ⟨2, _⟩ => show 0 * 128 + 1 * k.val = k.val; omega

theorem wboth_blk (c : Dev nD) (t : Fin grid0.N) : (iblk m c 3 t : Vec Ideal S2048x1024 .bf16) = wboth m c := by
  funext y
  unfold iblk
  rw [View.read_apply]
  refine Eq.trans ?_ (congrFun (V_wboth m c) y)
  show V m c main_v3 _ = V m c main_v3 _
  refine congrArg _ (funext fun (a : Fin 2) => Fin.ext ?_)
  match a with
  | ⟨0, _⟩ => show 0 * 2048 + 1 * (y 0).val = (y 0).val; omega
  | ⟨1, _⟩ => show 0 * 1024 + 1 * (y 1).val = (y 1).val; omega
theorem wdown_blk (c : Dev nD) (t : Fin grid0.N) : (iblk m c 4 t : Vec Ideal S512x2048 .bf16) = wdown m c := by
  funext y
  unfold iblk
  rw [View.read_apply]
  refine Eq.trans ?_ (congrFun (V_wdown m c) y)
  show V m c main_v5 _ = V m c main_v5 _
  refine congrArg _ (funext fun (a : Fin 2) => Fin.ext ?_)
  match a with
  | ⟨0, _⟩ => show 0 * 512 + 1 * (y 0).val = (y 0).val; omega
  | ⟨1, _⟩ => show 0 * 2048 + 1 * (y 1).val = (y 1).val; omega
theorem gain_blk (c : Dev nD) (t : Fin grid0.N) : (iblk m c 5 t : Vec Ideal S1x2048 .f32) = vec (m ((c : Thread nD τ).loc main_arg5)) := by
  funext y
  unfold iblk
  rw [View.read_apply]
  refine Eq.trans ?_ (congrFun (V_gain m c) y)
  show V m c main_v7 _ = V m c main_v7 _
  refine congrArg _ (funext fun (a : Fin 2) => Fin.ext ?_)
  match a with
  | ⟨0, _⟩ => show 0 * 1 + 1 * (y 0).val = (y 0).val; omega
  | ⟨1, _⟩ => show 0 * 2048 + 1 * (y 1).val = (y 1).val; omega
theorem shift_blk (c : Dev nD) (t : Fin grid0.N) : (iblk m c 6 t : Vec Ideal S1x2048 .f32) = vec (m ((c : Thread nD τ).loc main_arg6)) := by
  funext y
  unfold iblk
  rw [View.read_apply]
  refine Eq.trans ?_ (congrFun (V_shift m c) y)
  show V m c main_v9 _ = V m c main_v9 _
  refine congrArg _ (funext fun (a : Fin 2) => Fin.ext ?_)
  match a with
  | ⟨0, _⟩ => show 0 * 1 + 1 * (y 0).val = (y 0).val; omega
  | ⟨1, _⟩ => show 0 * 2048 + 1 * (y 1).val = (y 1).val; omega

/-- A step's routed sums are its tokens' own. -/
theorem routed_at (c : Dev nD) (t : Fin grid0.N) (p : Fin 256) (j : Fin 2048) (q : Fin 8192) (hq : q.val = t.val * 256 + p.val) :
    groups (X0_1 m c t) (X0_2 m c t) (ix2 p j) = routed (sums m c) q j := by
  have hj := j.isLt
  rw [groups_at]
  unfold routed
  by_cases h : j.val < 1024
  · rw [if_pos h]
    refine (sums1_at m c t _ _ ⟨q.val * 8 + j.val % 1024 / 128, by omega⟩ (by show q.val * 8 + _ = t.val * 2048 + (p.val * 8 + _); omega)).trans ?_
    exact congrArg (sums m c) (congrArg (ix3 · _ _) (Fin.ext (by show 0 = j.val / 1024; omega)))
  · rw [if_neg h]
    refine (sums2_at m c t _ _ ⟨q.val * 8 + j.val % 1024 / 128, by omega⟩ (by show q.val * 8 + _ = t.val * 2048 + (p.val * 8 + _); omega)).trans ?_
    exact congrArg (sums m c) (congrArg (ix3 · _ _) (Fin.ext (by show 1 = j.val / 1024; omega)))

/-- What a step writes at an element. -/
theorem step_at (c : Dev nD) (t : Fin grid0.N) (p : Fin 256) (j : Fin 2048) (q : Fin 8192) (hq : q.val = t.val * 256 + p.val) :
    rowsOut (iblk m c 0 t) (X0_1 m c t) (X0_2 m c t) (iblk m c 3 t) (iblk m c 4 t) (iblk m c 5 t) (iblk m c 6 t) (ix2 p j)
      = norm (total (hid m c) (sums m c) (wgate m c) (wup m c) (wdown m c) q) (fun x => (m ((c : Thread nD τ).loc main_arg5) : FVec Ideal S1x2048 .f32) (ix2 (0 : Fin 1) x))
        (fun x => (m ((c : Thread nD τ).loc main_arg6) : FVec Ideal S1x2048 .f32) (ix2 (0 : Fin 1) x)) j := by
  unfold rowsOut
  rw [norm_at, gain_blk, shift_blk]
  simp only [vec_at]
  refine congrArg (norm · _ _ j) (funext fun x => ?_)
  rw [expert_at, wboth_blk, wdown_blk, wboth_gate, wboth_up, routed_at m c t p x q hq, hid_at m c t p x q hq, add_assoc]
  unfold total
  refine congrArg (fun e : EReal => scaleOf * (show EReal from hid m c (ix2 q x)) + (routed (sums m c) q x + e)) ?_
  unfold expert proj
  simp only [hid_at m c t p _ q hq]

/-- The result, element by element. -/
theorem arr_at (c : Dev nD) (q : Fin 8192) (j : Fin 2048) :
    (dats m 0 c).arrAt 7 cfg0.N (ix2 q j : S8192x2048.Idx) = norm (total (hid m c) (sums m c) (wgate m c) (wup m c) (wdown m c) q)
      (fun x => (m ((c : Thread nD τ).loc main_arg5) : FVec Ideal S1x2048 .f32) (ix2 (0 : Fin 1) x))
      (fun x => (m ((c : Thread nD τ).loc main_arg6) : FVec Ideal S1x2048 .f32) (ix2 (0 : Fin 1) x)) j := by
  have hN : grid0.N = 32 := by decide
  have hq := q.isLt
  let t : Fin grid0.N := ⟨q.val / 256, by omega⟩
  let p : Fin 256 := ⟨q.val % 256, Nat.mod_lt _ (by decide)⟩
  have b := congrFun (Value.blocks7 m c t (flush0_7 t)) (ix2 p j : S256x2048.Idx)
  rw [Value.flushed7_A, View.read_apply] at b
  have e : ((cfg0.win 7).blk t).view.emb (ix2 p j : S256x2048.Idx) = (ix2 q j : S8192x2048.Idx) := by
    refine funext fun (a : Fin 2) => Fin.ext ?_
    match a with
    | ⟨0, _⟩ => show win0_7.index t 0 * 256 + 1 * (q.val % 256) = q.val; rw [(index_row t).2]; show q.val / 256 * 256 + _ = _; omega
    | ⟨1, _⟩ => show 0 * 2048 + 1 * j.val = j.val; omega
  refine (congrArg _ e.symm).trans (Eq.trans ?_ (b.trans (Eq.trans ?_ (step_at m c t p j q (by show q.val = q.val / 256 * 256 + q.val % 256; omega)))))
  · rfl
  · exact congrFun (out_eq c _ _ _ _ _ _ _ _ _ _ _ _ _ _ _ _ _ _ _ _ _ _ _ _) (ix2 p j)

/-- The kernel computes the reference. -/
theorem algebraic : @Cert.algebraic_Kernel2Ideal_Reference2Ideal Kernel2Ideal.Gen.facts Reference2Ideal.Gen.facts := by
  intro m g m' g' _ hm
  refine ⟨_, Value.run_blocks m g, ?_⟩
  refine (θ_run Cert.Reference2Ideal.defs _ _).mono (fun r h c => ⟨(h c).1.trans ?_, (h c).2⟩) (Reference2Ideal.Value.run m' g')
  obtain ⟨h0, h1, h2, h3, h4, h5, h6⟩ := hm c
  rw [res_eq, h0, h1, h2, h3, h4, h5, h6]
  funext y
  have e : y = (ix2 (y 0) (y 1) : S8192x2048.Idx) := by
    funext a
    match a with
    | ⟨0, _⟩ => rfl
    | ⟨1, _⟩ => rfl
  rw [e]
  refine (normHost_at _ _ _ (y 0) (y 1)).trans (Eq.trans ?_ (arr_at m c (y 0) (y 1)).symm)
  exact congrArg (norm · _ _ (y 1)) (funext fun x => totalHost_at _ _ _ _ _ (y 0) x)

end Cert.Final

end
-- ==== Proof.MixRef.lean ====
module

public import proofs.«01_k».proof.Proof.FinalRef
public import proofs.«01_k».proof.Proof.Gen.Reference4Ideal.Run
public import Idealize.ShloMosaic.Lib.Pointwise

/-! The mixer's output step as its definition states it, read element by element: the gated unit, the two groups' norms, the output
projection of the two groups side by side, and the residual's normalisation. -/

@[expose] public section

noncomputable section

namespace Cert.Mix

open Cert.Reference4Ideal Cert.Reference4Ideal.Gen Cert.Final
open Idealize.ShloMosaic Idealize.ShloMosaic.TcCoe Idealize.SL.Sem

/-- The gated unit on a row: the first 1024 columns of its product, times the sigmoid of the last 1024. -/
def glu (y : Fin 1024 → EReal) (w : FVec Ideal S1024x2048 .f32) (f : Fin 1024) : EReal :=
  (∑ k : Fin 1024, y k * (show EReal from w (ix2 k (⟨f.val, by omega⟩ : Fin 2048))))
    * Ideal.logistic (∑ k : Fin 1024, y k * (show EReal from w (ix2 k (⟨1024 + f.val, by omega⟩ : Fin 2048))))

/-- A row of one group, divided by its root mean square and scaled. -/
def rms (z g : Fin 1024 → EReal) (f : Fin 1024) : EReal :=
  z f * Ideal.rsqrt (Ideal.div (∑ x, z x * z x) (Ideal.ofBits .f32 0x44800000#32) + Ideal.ofBits .f32 0x3727C5AC#32) * g f

/-- The residual sum of a row: the upper rows of the output weight meet the first group, the lower rows the second. -/
def mixed (y ya : Fin 1024 → EReal) (x : Fin 2048 → EReal) (w : FVec Ideal S1024x2048 .f32) (wo : FVec Ideal S2048x2048 .f32)
    (gs ga : Fin 1024 → EReal) (j : Fin 2048) : EReal :=
  scaleOf * x j + ((∑ i : Fin 1024, rms (glu y w) gs i * (show EReal from wo (ix2 (⟨i.val, by omega⟩ : Fin 2048) j)))
    + ∑ i : Fin 1024, rms ya ga i * (show EReal from wo (ix2 (⟨1024 + i.val, by omega⟩ : Fin 2048) j)))

def dotHost (y : FVec Ideal S8192x1024 .f32) (w : FVec Ideal S1x1024x2048 .f32) : FVec Ideal S8192x2048 .f32 :=
  Host.dotGeneral dot_S8192x1024_S1024x2048_S8192x2048_1_0_0_1_n_n none y (shapeCast S1024x2048 w shapeCasts_S1x1024x2048_S1024x2048)

def oneHost : FVec Ideal S8192x1024 .f32 := broadcastInDim S8192x1024 ![] bcast_S_S8192x1024 (constant S_ .f32 0x3F800000#32)

def gateHost (z : FVec Ideal S8192x2048 .f32) : FVec Ideal S8192x1024 .f32 :=
  mulf (extractStridedSlice S8192x1024 ![0, 0] z slices_S8192x2048_S8192x1024_0_0)
    (Host.divf oneHost (addf oneHost (Host.exp (Host.negf (extractStridedSlice S8192x1024 ![0, 1024] z slices_S8192x2048_S8192x1024_0_1024)))))

def rmsHost (z : FVec Ideal S8192x1024 .f32) (g : FVec Ideal S1x1024 .f32) : FVec Ideal S8192x1024 .f32 :=
  mulf (mulf z (broadcastInDim S8192x1024 ![0, 1] bcast_S8192x1_S8192x1024_0_1 (Host.rsqrt (addf
    (Host.divf (broadcastInDim S8192x1 ![0] bcast_S8192_S8192x1_0 (Host.reduceAdd (mulf z z) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x3727C5AC#32))))))
    (broadcastInDim S8192x1024 ![0, 1] bcast_S1x1024_S8192x1024_0_1 (broadcastInDim S1x1024 ![1] bcast_S1024_S1x1024_1 (shapeCast S1024 g shapeCasts_S1x1024_S1024)))

def bothHost (a b : FVec Ideal S8192x1024 .f32) : FVec Ideal S8192x2048 .f32 :=
  concatenate S8192x2048 1 [⟨S8192x1024, a⟩, ⟨S8192x1024, b⟩] concatenates_S8192x1024_S8192x1024_S8192x2048_d1

def outHost (z : FVec Ideal S8192x2048 .f32) (wo : FVec Ideal S1x2048x2048 .f32) : FVec Ideal S8192x2048 .f32 :=
  Host.dotGeneral dot_S8192x2048_S2048x2048_S8192x2048_1_0_0_1_n_n none z (shapeCast S2048x2048 wo shapeCasts_S1x2048x2048_S2048x2048)

def mixedHost (y ya : FVec Ideal S8192x1024 .f32) (x : FVec Ideal S4x2048x2048 .f32) (w : FVec Ideal S1x1024x2048 .f32) (wo : FVec Ideal S1x2048x2048 .f32)
    (gs ga : FVec Ideal S1x1024 .f32) : FVec Ideal S8192x2048 .f32 :=
  addf (mulf (broadcastInDim S8192x2048 ![] bcast_S_S8192x2048 (constant S_ .f32 0x3F9837F0#32)) (shapeCast S8192x2048 x shapeCasts_S4x2048x2048_S8192x2048))
    (outHost (bothHost (rmsHost (gateHost (dotHost y w)) gs) (rmsHost ya ga)) wo)

theorem dotHost_at (y : FVec Ideal S8192x1024 .f32) (w : FVec Ideal S1x1024x2048 .f32) (t : Fin 8192) (f : Fin 2048) :
    dotHost y w (ix2 t f) = ∑ k : Fin 1024, (show EReal from y (ix2 t k))
      * (show EReal from (shapeCast S1024x2048 w shapeCasts_S1x1024x2048_S1024x2048 : FVec Ideal S1024x2048 .f32) (ix2 k f)) := by
  pointwise [dotHost]

theorem gateHost_at (z : FVec Ideal S8192x2048 .f32) (t : Fin 8192) (f : Fin 1024) :
    gateHost z (ix2 t f) = (show EReal from z (ix2 t (⟨f.val, by omega⟩ : Fin 2048))) * Ideal.logistic (z (ix2 t (⟨1024 + f.val, by omega⟩ : Fin 2048))) := by
  have h1 : Ideal.ofBits .f32 0x3F800000#32 = 1 := IdealRules.sign_bit.ideal_onePat .f32
  unfold Ideal.logistic
  rw [← h1]
  pointwise [gateHost, oneHost]

theorem rmsHost_at (z : FVec Ideal S8192x1024 .f32) (g : FVec Ideal S1x1024 .f32) (t : Fin 8192) (f : Fin 1024) :
    rmsHost z g (ix2 t f) = rms (fun x => z (ix2 t x)) (fun x => g (ix2 (0 : Fin 1) x)) f := by
  pointwise [rmsHost, rms]

theorem gluHost_at (y : FVec Ideal S8192x1024 .f32) (w : FVec Ideal S1x1024x2048 .f32) (t : Fin 8192) (f : Fin 1024) :
    gateHost (dotHost y w) (ix2 t f) = glu (fun k => y (ix2 t k)) (shapeCast S1024x2048 w shapeCasts_S1x1024x2048_S1024x2048) f := by
  rw [gateHost_at, dotHost_at, dotHost_at]
  rfl

/-- The two groups side by side: column `f` of the first is column `f`, of the second column `1024 + f`. -/
theorem bothHost_at (a b : FVec Ideal S8192x1024 .f32) (n : Fin 2) (t : Fin 8192) (f : Fin 1024) (i : Fin 2048) (hi : i.val = n.val * 1024 + f.val) :
    bothHost a b (ix2 t i) = (if n = 0 then a else b) (ix2 t f) := by
  have hf := f.isLt
  let g : Fin 2 → FVec Ideal S8192x1024 .f32 := fun n => if n = 0 then a else b
  exact concatenate_ofFn_apply (t := S8192x2048) (s₁ := S8192x1024) (1 : Fin 2) g (by exact concatenates_S8192x1024_S8192x1024_S8192x2048_d1) rfl 1024 rfl
    (ix2 t i : S8192x2048.Idx) n (by show i.val / 1024 = n.val; omega) (ix2 t f) (by show f.val = i.val % 1024; omega)
    (fun (b : Fin 2) hb => match b, hb with
      | ⟨0, _⟩, _ => rfl
      | ⟨1, _⟩, hb => absurd rfl hb)

theorem outHost_at (a b : FVec Ideal S8192x1024 .f32) (wo : FVec Ideal S1x2048x2048 .f32) (t : Fin 8192) (j : Fin 2048) :
    outHost (bothHost a b) wo (ix2 t j)
      = (∑ i : Fin 1024, (show EReal from a (ix2 t i)) * (show EReal from (shapeCast S2048x2048 wo shapeCasts_S1x2048x2048_S2048x2048 : FVec Ideal S2048x2048 .f32) (ix2 (⟨i.val, by omega⟩ : Fin 2048) j)))
        + ∑ i : Fin 1024, (show EReal from b (ix2 t i)) * (show EReal from (shapeCast S2048x2048 wo shapeCasts_S1x2048x2048_S2048x2048 : FVec Ideal S2048x2048 .f32) (ix2 (⟨1024 + i.val, by omega⟩ : Fin 2048) j)) := by
  have e : outHost (bothHost a b) wo (ix2 t j) = ∑ i : Fin (1024 + 1024), (show EReal from bothHost a b (ix2 t (i : Fin 2048)))
      * (show EReal from (shapeCast S2048x2048 wo shapeCasts_S1x2048x2048_S2048x2048 : FVec Ideal S2048x2048 .f32) (ix2 (i : Fin 2048) j)) := by
    generalize bothHost a b = z
    show _ = ∑ i : Fin 2048, (show EReal from z (ix2 t i))
      * (show EReal from (shapeCast S2048x2048 wo shapeCasts_S1x2048x2048_S2048x2048 : FVec Ideal S2048x2048 .f32) (ix2 i j))
    pointwise [outHost]
  rw [e, Fin.sum_univ_add]
  refine congr (congrArg (fun d e : EReal => d + e) (Finset.sum_congr rfl fun i _ => ?_)) (Finset.sum_congr rfl fun i _ => ?_)
  · exact congrArg (fun d : EReal => d * _) (bothHost_at a b 0 t i _ (by show i.val = 0 * 1024 + i.val; omega))
  · exact congrArg (fun d : EReal => d * _) (bothHost_at a b 1 t i _ (by show 1024 + i.val = 1 * 1024 + i.val; omega))

theorem mixedHost_at (y ya : FVec Ideal S8192x1024 .f32) (x : FVec Ideal S4x2048x2048 .f32) (w : FVec Ideal S1x1024x2048 .f32) (wo : FVec Ideal S1x2048x2048 .f32)
    (gs ga : FVec Ideal S1x1024 .f32) (t : Fin 8192) (j : Fin 2048) :
    mixedHost y ya x w wo gs ga (ix2 t j) = mixed (fun k => y (ix2 t k)) (fun k => ya (ix2 t k))
      (fun k => (shapeCast S8192x2048 x shapeCasts_S4x2048x2048_S8192x2048 : FVec Ideal S8192x2048 .f32) (ix2 t k))
      (shapeCast S1024x2048 w shapeCasts_S1x1024x2048_S1024x2048) (shapeCast S2048x2048 wo shapeCasts_S1x2048x2048_S2048x2048)
      (fun k => gs (ix2 (0 : Fin 1) k)) (fun k => ga (ix2 (0 : Fin 1) k)) j := by
  have e : mixedHost y ya x w wo gs ga (ix2 t j) = scaleOf
      * (show EReal from (shapeCast S8192x2048 x shapeCasts_S4x2048x2048_S8192x2048 : FVec Ideal S8192x2048 .f32) (ix2 t j))
      + (show EReal from outHost (bothHost (rmsHost (gateHost (dotHost y w)) gs) (rmsHost ya ga)) wo (ix2 t j)) := by
    unfold mixedHost
    generalize outHost (bothHost (rmsHost (gateHost (dotHost y w)) gs) (rmsHost ya ga)) wo = z
    pointwise [scaleOf]
  rw [e, outHost_at]
  unfold mixed
  simp only [rmsHost_at, gluHost_at]

theorem res_eq (m : (ℓ : Loc nD τ sig) → Buf (Elt Ideal) ℓ) (c : Dev nD) :
    Reference4Ideal.Value.res_main_v71 m c = normHost (mixedHost (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)))
      (m ((c : Thread nD τ).loc main_arg7)) (m ((c : Thread nD τ).loc main_arg8)) := rfl

end Cert.Mix

end
-- ==== Proof.Mix.lean ====
module

public import proofs.«01_k».proof.Proof.MixRef
public import proofs.«01_k».proof.Proof.Gen.Kernel4Ideal.Value

/-! The mixer's output step as its kernel computes it: each grid step takes 512 tokens in two parts of 256. -/

@[expose] public section

noncomputable section

namespace Cert.Mix

open Cert.Kernel4Ideal Cert.Kernel4Ideal.Gen Cert.Final
open Idealize.ShloMosaic Idealize.ShloMosaic.TcCoe Idealize.SL.Sem

/-- Rows `o` to `o + 256` of a block of 512 narrow rows. -/
theorem ld_narrow (x : Vec Ideal S512x1024 .f32) (o : ℕ) (inb : ∀ a, (![o, 0] : Fin 2 → Nat) a + S256x1024.size a ≤ S512x1024.size a)
    (p : Fin 256) (k : Fin 1024) (h : o + p.val < 512) :
    View.ld x (Rect.unit (s := S512x1024) ![o, 0] S256x1024.size inb) (ix2 p k : S256x1024.Idx) = x (ix2 ⟨o + p.val, h⟩ k) := by
  refine congrArg x (funext fun (a : Fin 2) => Fin.ext ?_)
  match a with
  | ⟨0, _⟩ => show o + 1 * p.val = o + p.val; omega
  | ⟨1, _⟩ => show 0 + 1 * k.val = k.val; omega

/-- Rows `o` to `o + 256` of a block of 512 wide rows. -/
theorem ld_wide (x : Vec Ideal S512x2048 .f32) (o : ℕ) (inb : ∀ a, (![o, 0] : Fin 2 → Nat) a + S256x2048.size a ≤ S512x2048.size a)
    (p : Fin 256) (k : Fin 2048) (h : o + p.val < 512) :
    View.ld x (Rect.unit (s := S512x2048) ![o, 0] S256x2048.size inb) (ix2 p k : S256x2048.Idx) = x (ix2 ⟨o + p.val, h⟩ k) := by
  refine congrArg x (funext fun (a : Fin 2) => Fin.ext ?_)
  match a with
  | ⟨0, _⟩ => show o + 1 * p.val = o + p.val; omega
  | ⟨1, _⟩ => show 0 + 1 * k.val = k.val; omega

/-- Half of the output weight's rows. -/
theorem ld_half (x : Vec Ideal S2048x2048 .bf16) (o : ℕ) (inb : ∀ a, (![o, 0] : Fin 2 → Nat) a + S1024x2048.size a ≤ S2048x2048.size a)
    (i : Fin 1024) (k : Fin 2048) (h : o + i.val < 2048) :
    View.ld x (Rect.unit (s := S2048x2048) ![o, 0] S1024x2048.size inb) (ix2 i k : S1024x2048.Idx) = x (ix2 ⟨o + i.val, h⟩ k) := by
  refine congrArg x (funext fun (a : Fin 2) => Fin.ext ?_)
  match a with
  | ⟨0, _⟩ => show o + 1 * i.val = o + i.val; omega
  | ⟨1, _⟩ => show 0 + 1 * k.val = k.val; omega

theorem ld_glu (x : Vec Ideal S1024x2048 .bf16) : View.ld x r0_1 = x :=
  View.ld_unit_zero (by funext a; match a with | ⟨0, _⟩ => rfl | ⟨1, _⟩ => rfl) _ x
theorem ld_group (x : Vec Ideal S1x1024 .f32) : View.ld x r0_2 = x :=
  View.ld_unit_zero (by funext a; match a with | ⟨0, _⟩ => rfl | ⟨1, _⟩ => rfl) _ x
theorem ld_row (x : Vec Ideal S1x2048 .f32) : View.ld x r0_6 = x :=
  View.ld_unit_zero (by funext a; match a with | ⟨0, _⟩ => rfl | ⟨1, _⟩ => rfl) _ x

theorem off_piece (o : ℕ) (inb : ∀ a, (![o, 0] : Fin 2 → Nat) a + S256x2048.size a ≤ S512x2048.size a) (p : Fin 512) (j : Fin 2048)
    (h : p.val < o ∨ o + 256 ≤ p.val) : (ix2 p j : S512x2048.Idx) ∉ (Rect.unit (s := S512x2048) ![o, 0] S256x2048.size inb).set :=
  Rect.not_mem_set_of_axis _ (ix2 p j : S512x2048.Idx) 0 o 256 rfl rfl rfl h

theorem at_piece (o : ℕ) (inb : ∀ a, (![o, 0] : Fin 2 → Nat) a + S256x2048.size a ≤ S512x2048.size a) (p : Fin 512) (j : Fin 2048)
    (h : o ≤ p.val ∧ p.val < o + 256) : (Rect.unit (s := S512x2048) ![o, 0] S256x2048.size inb).emb (ix2 (⟨p.val - o, by omega⟩ : Fin 256) j : S256x2048.Idx) = (ix2 p j : S512x2048.Idx) :=
  Rect.emb_eq_of_coords _ _ _ fun (a : Fin 2) => by
    match a with
    | ⟨0, _⟩ => show p.val = o + 1 * (p.val - o); omega
    | ⟨1, _⟩ => show j.val = 0 + 1 * j.val; omega

/-- A part is passed over off its own rows. -/
theorem canon_miss (o : ℕ) (inb : ∀ a, (![o, 0] : Fin 2 → Nat) a + S256x2048.size a ≤ S512x2048.size a) (v : Vec Ideal S256x2048 .f32)
    (L : List (View.Piece (Elt Ideal) S512x2048 .f32)) (p : Fin 512) (j : Fin 2048) (h : p.val < o ∨ o + 256 ≤ p.val) :
    View.canon (⟨Rect.unit (s := S512x2048) ![o, 0] S256x2048.size inb, v⟩ :: L) (ix2 p j) = View.canon L (ix2 p j) :=
  View.canon_cons_of_not_mem _ _ (off_piece o inb p j h)

/-- A part read under its own rows. -/
theorem canon_hit (o : ℕ) (inb : ∀ a, (![o, 0] : Fin 2 → Nat) a + S256x2048.size a ≤ S512x2048.size a) (v : Vec Ideal S256x2048 .f32)
    (L : List (View.Piece (Elt Ideal) S512x2048 .f32)) (p : Fin 512) (j : Fin 2048) (h : o ≤ p.val ∧ p.val < o + 256) :
    View.canon (⟨Rect.unit (s := S512x2048) ![o, 0] S256x2048.size inb, v⟩ :: L) (ix2 p j) = v (ix2 (⟨p.val - o, by omega⟩ : Fin 256) j) :=
  (congrArg _ (at_piece o inb p j h).symm).trans (View.canon_cons_emb _ _ L _)

theorem pay2_at (v0 : Vec Ideal S256x1024 .f32) (v2 : Vec Ideal S1024x2048 .bf16) (v9 : Vec Ideal S1x1024 .f32) (p : Fin 256) (f : Fin 1024) :
    k0_pay2 v0 v2 v9 (ix2 p f) = rms (glu (fun k => v0 (ix2 p k)) v2) (fun k => v9 (ix2 (0 : Fin 1) k)) f := by
  pointwise [k0_pay2, rms, glu]

theorem pay3_at (v24 : Vec Ideal S256x1024 .f32) (v25 : Vec Ideal S1x1024 .f32) (p : Fin 256) (f : Fin 1024) :
    k0_pay3 v24 v25 (ix2 p f) = rms (fun k => v24 (ix2 p k)) (fun k => v25 (ix2 (0 : Fin 1) k)) f := by
  pointwise [k0_pay3, rms]

theorem pay4_at (v23 v39 : Vec Ideal S256x1024 .bf16) (v40 v43 : Vec Ideal S1024x2048 .bf16) (v47 : Vec Ideal S256x2048 .f32) (v52 v54 : Vec Ideal S1x2048 .f32)
    (p : Fin 256) (j : Fin 2048) :
    k0_pay4 v23 v39 v40 v43 v47 v52 v54 (ix2 p j) = norm (fun x => scaleOf * (show EReal from v47 (ix2 p x))
      + ((∑ i : Fin 1024, (show EReal from v23 (ix2 p i)) * (show EReal from v40 (ix2 i x))) + ∑ i : Fin 1024, (show EReal from v39 (ix2 p i)) * (show EReal from v43 (ix2 i x))))
      (fun x => v52 (ix2 (0 : Fin 1) x)) (fun x => v54 (ix2 (0 : Fin 1) x)) j := by
  pointwise [k0_pay4, Final.norm, Final.mean, Final.len, scaleOf]

theorem pay8_at (v99 : Vec Ideal S256x1024 .f32) (v101 : Vec Ideal S1024x2048 .bf16) (p : Fin 256) (f : Fin 1024) :
    k0_pay8 v99 v101 (ix2 p f) = glu (fun k => v99 (ix2 p k)) v101 f := by
  pointwise [k0_pay8, glu]

theorem pay9_at (v108 : Vec Ideal S1x1024 .f32) (f : Fin 1024) : k0_pay9 v108 (ix2 (0 : Fin 1) f) = v108 (ix2 (0 : Fin 1) f) := by
  pointwise [k0_pay9]

theorem pay11_at (v107 : Vec Ideal S256x1024 .f32) (v109 : Vec Ideal S1x1024 .f32) (v123 : Vec Ideal S256x1024 .f32) (v124 : Vec Ideal S1x1024 .f32)
    (v139 v142 : Vec Ideal S1024x2048 .bf16) (v146 : Vec Ideal S256x2048 .f32) (p : Fin 256) (x : Fin 2048) :
    k0_pay11 v107 v109 (mulf v107 v107 : FVec Ideal S256x1024 .f32) v123 v124 v139 v142 v146 (ix2 p x) = scaleOf * (show EReal from v146 (ix2 p x))
      + ((∑ i : Fin 1024, rms (fun k => v107 (ix2 p k)) (fun k => v109 (ix2 (0 : Fin 1) k)) i * (show EReal from v139 (ix2 i x)))
        + ∑ i : Fin 1024, rms (fun k => v123 (ix2 p k)) (fun k => v124 (ix2 (0 : Fin 1) k)) i * (show EReal from v142 (ix2 i x))) := by
  pointwise [k0_pay11, rms, scaleOf]

theorem pay12_at (v150 : Vec Ideal S256x2048 .f32) (v151 v153 : Vec Ideal S1x2048 .f32) (p : Fin 256) (j : Fin 2048) :
    k0_pay12 v150 v151 v153 (ix2 p j) = norm (fun x => v150 (ix2 p x)) (fun x => v151 (ix2 (0 : Fin 1) x)) (fun x => v153 (ix2 (0 : Fin 1) x)) j := by
  pointwise [k0_pay12, Final.norm, Final.mean, Final.len]

/-- Two residual sums agree when their parts do. -/
theorem mixed_congr {s x x' : EReal} {a a' b b' u u' v v' : Fin 1024 → EReal} (hx : x = x') (ha : ∀ i, a i = a' i) (hb : ∀ i, b i = b' i)
    (hu : ∀ i, u i = u' i) (hv : ∀ i, v i = v' i) :
    s * x + ((∑ i, a i * b i) + ∑ i, u i * v i) = s * x' + ((∑ i, a' i * b' i) + ∑ i, u' i * v' i) := by
  rw [hx, funext ha, funext hb, funext hu, funext hv]

/-- What a step leaves at an element, from the blocks it reads. -/
theorem out_at (x0 x1 : Vec Ideal S512x1024 .f32) (x2 : Vec Ideal S512x2048 .f32) (x3 : Vec Ideal S1024x2048 .bf16) (x4 : Vec Ideal S2048x2048 .bf16)
    (x5 x6 : Vec Ideal S1x1024 .f32) (x7 x8 : Vec Ideal S1x2048 .f32) (p : Fin 512) (j : Fin 2048) :
    out0_9 x0 x1 x2 x3 x4 x5 x6 x7 x8 (ix2 p j) = norm (mixed (fun k => x0 (ix2 p k)) (fun k => x1 (ix2 p k)) (fun k => x2 (ix2 p k)) x3 x4
      (fun k => x5 (ix2 (0 : Fin 1) k)) (fun k => x6 (ix2 (0 : Fin 1) k))) (fun k => x7 (ix2 (0 : Fin 1) k)) (fun k => x8 (ix2 (0 : Fin 1) k)) j := by
  have hp := p.isLt
  unfold out0_9
  by_cases h : 256 ≤ p.val
  · refine (canon_hit 256 _ _ _ p j ⟨h, by omega⟩).trans ?_
    rw [pay12_at, ld_row, ld_row]
    refine congrArg (norm · _ _ j) (funext fun x => ?_)
    unfold k0_pay33 k0_pay10
    refine (pay11_at _ _ _ _ _ _ _ _ x).trans ?_
    have hb : ∀ h, (⟨256 + (p.val - 256), h⟩ : Fin 512) = p := fun _ => Fin.ext (by show 256 + (p.val - 256) = p.val; omega)
    have e0 : ∀ (z : Vec Ideal S512x1024 .f32) (k : Fin 1024), View.ld z r0_8 (ix2 (⟨p.val - 256, by omega⟩ : Fin 256) k : S256x1024.Idx) = z (ix2 p k) := fun z k =>
      (ld_narrow z 256 _ _ k (by show 256 + (p.val - 256) < 512; omega)).trans (congrArg z (congrArg (ix2 · k) (hb _)))
    have e2 : ∀ k : Fin 2048, View.ld x2 r0_9 (ix2 (⟨p.val - 256, by omega⟩ : Fin 256) k : S256x2048.Idx) = x2 (ix2 p k) := fun k =>
      (ld_wide x2 256 _ _ k (by show 256 + (p.val - 256) < 512; omega)).trans (congrArg x2 (congrArg (ix2 · k) (hb _)))
    have e3 : ∀ i : Fin 1024, View.ld x4 r0_3 (ix2 i x : S1024x2048.Idx) = x4 (ix2 (⟨i.val, by omega⟩ : Fin 2048) x) := fun i =>
      (ld_half x4 0 _ i x (by omega)).trans (congrArg x4 (congrArg (ix2 · x) (Fin.ext (by show 0 + i.val = i.val; omega))))
    have e4 : ∀ i : Fin 1024, View.ld x4 r0_4 (ix2 i x : S1024x2048.Idx) = x4 (ix2 (⟨1024 + i.val, by omega⟩ : Fin 2048) x) := fun i =>
      ld_half x4 1024 _ i x (by omega)
    refine mixed_congr (e2 x) (fun i => ?_) e3 (fun i => ?_) e4
    · refine congrFun (congr (congrArg rms (funext fun k => (pay8_at _ _ _ k).trans ?_)) (funext fun k => (pay9_at _ k).trans (congrFun (ld_group x5) _))) i
      exact congrFun (congr (congrArg glu (funext (e0 x0))) (ld_glu x3)) k
    · exact congrFun (congr (congrArg rms (funext (e0 x1))) (funext fun k => congrFun (ld_group x6) _)) i
  · refine (canon_miss 256 _ _ _ p j (.inl (by omega))).trans ((canon_hit 0 _ _ _ p j ⟨by omega, by omega⟩).trans ?_)
    rw [pay4_at, ld_row, ld_row]
    refine congrArg (norm · _ _ j) (funext fun x => ?_)
    unfold k0_pay31 k0_pay32
    have hb : ∀ h, (⟨0 + (p.val - 0), h⟩ : Fin 512) = p := fun _ => Fin.ext (by show 0 + (p.val - 0) = p.val; omega)
    have e0 : ∀ (z : Vec Ideal S512x1024 .f32) (k : Fin 1024), View.ld z r0_0 (ix2 (⟨p.val - 0, by omega⟩ : Fin 256) k : S256x1024.Idx) = z (ix2 p k) := fun z k =>
      (ld_narrow z 0 _ _ k (by show 0 + (p.val - 0) < 512; omega)).trans (congrArg z (congrArg (ix2 · k) (hb _)))
    have e2 : ∀ k : Fin 2048, View.ld x2 r0_5 (ix2 (⟨p.val - 0, by omega⟩ : Fin 256) k : S256x2048.Idx) = x2 (ix2 p k) := fun k =>
      (ld_wide x2 0 _ _ k (by show 0 + (p.val - 0) < 512; omega)).trans (congrArg x2 (congrArg (ix2 · k) (hb _)))
    have e3 : ∀ i : Fin 1024, View.ld x4 r0_3 (ix2 i x : S1024x2048.Idx) = x4 (ix2 (⟨i.val, by omega⟩ : Fin 2048) x) := fun i =>
      (ld_half x4 0 _ i x (by omega)).trans (congrArg x4 (congrArg (ix2 · x) (Fin.ext (by show 0 + i.val = i.val; omega))))
    have e4 : ∀ i : Fin 1024, View.ld x4 r0_4 (ix2 i x : S1024x2048.Idx) = x4 (ix2 (⟨1024 + i.val, by omega⟩ : Fin 2048) x) := fun i =>
      ld_half x4 1024 _ i x (by omega)
    refine mixed_congr (e2 x) (fun i => (pay2_at _ _ _ _ i).trans ?_) e3 (fun i => (pay3_at _ _ _ i).trans ?_) e4
    · refine congrFun (congr (congrArg rms ?_) (funext fun k => congrFun (ld_group x5) _)) i
      exact congr (congrArg glu (funext (e0 x0))) (ld_glu x3)
    · exact congrFun (congr (congrArg rms (funext (e0 x1))) (funext fun k => congrFun (ld_group x6) _)) i

variable (m : (ℓ : Loc nD τ sig) → Buf (Elt Ideal) ℓ)

abbrev ssm (c : Dev nD) : FVec Ideal S8192x1024 .f32 := m ((c : Thread nD τ).loc main_arg0)
abbrev attn (c : Dev nD) : FVec Ideal S8192x1024 .f32 := m ((c : Thread nD τ).loc main_arg1)
def rows (c : Dev nD) : FVec Ideal S8192x2048 .f32 := shapeCast S8192x2048 (m ((c : Thread nD τ).loc main_arg2)) shapeCasts_S4x2048x2048_S8192x2048
def wglu (c : Dev nD) : FVec Ideal S1024x2048 .f32 := shapeCast S1024x2048 (m ((c : Thread nD τ).loc main_arg3)) shapeCasts_S1x1024x2048_S1024x2048
def wout (c : Dev nD) : FVec Ideal S2048x2048 .f32 := shapeCast S2048x2048 (m ((c : Thread nD τ).loc main_arg4)) shapeCasts_S1x2048x2048_S2048x2048
def group (g : FVec Ideal S1x1024 .f32) : FVec Ideal S1x1024 .f32 := shapeCast S1x1024 (shapeCast S1024 g shapeCasts_S1x1024_S1024) shapeCasts_S1024_S1x1024
def vec (g : FVec Ideal S1x2048 .f32) : FVec Ideal S1x2048 .f32 := shapeCast S1x2048 (shapeCast S2048 g shapeCasts_S1x2048_S2048) shapeCasts_S2048_S1x2048

theorem group_at (g : FVec Ideal S1x1024 .f32) (x : Fin 1024) : group g (ix2 (0 : Fin 1) x) = g (ix2 (0 : Fin 1) x) := by
  pointwise [group]
theorem vec_at (g : FVec Ideal S1x2048 .f32) (x : Fin 2048) : vec g (ix2 (0 : Fin 1) x) = g (ix2 (0 : Fin 1) x) := by
  pointwise [vec]

theorem V_rows (c : Dev nD) : V m c main_v0 = rows m c := by
  show StableHlo.after hostOps0 _ _ = _
  unfold rows
  after_results <;> rfl
theorem V_wglu (c : Dev nD) : V m c main_v2 = truncf .bf16 (wglu m c) bitsLt_bf16_f32 := by
  show StableHlo.after hostOps0 _ _ = _
  unfold wglu
  after_results <;> rfl
theorem V_wout (c : Dev nD) : V m c main_v4 = truncf .bf16 (wout m c) bitsLt_bf16_f32 := by
  show StableHlo.after hostOps0 _ _ = _
  unfold wout
  after_results <;> rfl
theorem V_gs (c : Dev nD) : V m c main_v6 = group (m ((c : Thread nD τ).loc main_arg5)) := by
  show StableHlo.after hostOps0 _ _ = _
  unfold group
  after_results <;> rfl
theorem V_ga (c : Dev nD) : V m c main_v8 = group (m ((c : Thread nD τ).loc main_arg6)) := by
  show StableHlo.after hostOps0 _ _ = _
  unfold group
  after_results <;> rfl
theorem V_gain (c : Dev nD) : V m c main_v10 = vec (m ((c : Thread nD τ).loc main_arg7)) := by
  show StableHlo.after hostOps0 _ _ = _
  unfold vec
  after_results <;> rfl
theorem V_shift (c : Dev nD) : V m c main_v12 = vec (m ((c : Thread nD τ).loc main_arg8)) := by
  show StableHlo.after hostOps0 _ _ = _
  unfold vec
  after_results <;> rfl

theorem index_row : ∀ t : Fin grid0.N, (win0_0.index t 0 = t.val ∧ win0_1.index t 0 = t.val) ∧ (win0_2.index t 0 = t.val ∧ win0_9.index t 0 = t.val) := by decide +kernel

theorem ssm_at (c : Dev nD) (t : Fin grid0.N) (p : Fin 512) (k : Fin 1024) (q : Fin 8192) (hq : q.val = t.val * 512 + p.val) :
    (iblk m c 0 t : Vec Ideal S512x1024 .f32) (ix2 p k) = ssm m c (ix2 q k) := by
  unfold iblk
  rw [View.read_apply]
  refine Eq.trans ?_ (congrFun (V_main_arg0 m c) (ix2 q k))
  show V m c main_arg0 _ = V m c main_arg0 _
  refine congrArg _ (funext fun (a : Fin 2) => Fin.ext ?_)
  match a with
  | ⟨0, _⟩ => show win0_0.index t 0 * 512 + 1 * p.val = q.val; rw [(index_row t).1.1, hq]; omega
  | ⟨1, _⟩ => show 0 * 1024 + 1 * k.val = k.val; omega

theorem attn_at (c : Dev nD) (t : Fin grid0.N) (p : Fin 512) (k : Fin 1024) (q : Fin 8192) (hq : q.val = t.val * 512 + p.val) :
    (iblk m c 1 t : Vec Ideal S512x1024 .f32) (ix2 p k) = attn m c (ix2 q k) := by
  unfold iblk
  rw [View.read_apply]
  refine Eq.trans ?_ (congrFun (V_main_arg1 m c) (ix2 q k))
  show V m c main_arg1 _ = V m c main_arg1 _
  refine congrArg _ (funext fun (a : Fin 2) => Fin.ext ?_)
  match a with
  | ⟨0, _⟩ => show win0_1.index t 0 * 512 + 1 * p.val = q.val; rw [(index_row t).1.2, hq]; omega
  | ⟨1, _⟩ => show 0 * 1024 + 1 * k.val = k.val; omega

theorem rows_at (c : Dev nD) (t : Fin grid0.N) (p : Fin 512) (k : Fin 2048) (q : Fin 8192) (hq : q.val = t.val * 512 + p.val) :
    (iblk m c 2 t : Vec Ideal S512x2048 .f32) (ix2 p k) = rows m c (ix2 q k) := by
  unfold iblk
  rw [View.read_apply]
  refine Eq.trans ?_ (congrFun (V_rows m c) (ix2 q k))
  show V m c main_v0 _ = V m c main_v0 _
  refine congrArg _ (funext fun (a : Fin 2) => Fin.ext ?_)
  match a with
  | ⟨0, _⟩ => show win0_2.index t 0 * 512 + 1 * p.val = q.val; rw [(index_row t).2.1, hq]; omega
  | ⟨1, _⟩ => show 0 * 2048 + 1 * k.val = k.val; omega

theorem wglu_blk (c : Dev nD) (t : Fin grid0.N) : (iblk m c 3 t : Vec Ideal S1024x2048 .bf16) = wglu m c := by
  funext y
  unfold iblk
  rw [View.read_apply]
  refine Eq.trans ?_ (congrFun (V_wglu m c) y)
  show V m c main_v2 _ = V m c main_v2 _
  refine congrArg _ (funext fun (a : Fin 2) => Fin.ext ?_)
  match a with
  | ⟨0, _⟩ => show 0 * 1024 + 1 * (y 0).val = (y 0).val; omega
  | ⟨1, _⟩ => show 0 * 2048 + 1 * (y 1).val = (y 1).val; omega
theorem wout_blk (c : Dev nD) (t : Fin grid0.N) : (iblk m c 4 t : Vec Ideal S2048x2048 .bf16) = wout m c := by
  funext y
  unfold iblk
  rw [View.read_apply]
  refine Eq.trans ?_ (congrFun (V_wout m c) y)
  show V m c main_v4 _ = V m c main_v4 _
  refine congrArg _ (funext fun (a : Fin 2) => Fin.ext ?_)
  match a with
  | ⟨0, _⟩ => show 0 * 2048 + 1 * (y 0).val = (y 0).val; omega
  | ⟨1, _⟩ => show 0 * 2048 + 1 * (y 1).val = (y 1).val; omega
theorem gs_blk (c : Dev nD) (t : Fin grid0.N) : (iblk m c 5 t : Vec Ideal S1x1024 .f32) = group (m ((c : Thread nD τ).loc main_arg5)) := by
  funext y
  unfold iblk
  rw [View.read_apply]
  refine Eq.trans ?_ (congrFun (V_gs m c) y)
  show V m c main_v6 _ = V m c main_v6 _
  refine congrArg _ (funext fun (a : Fin 2) => Fin.ext ?_)
  match a with
  | ⟨0, _⟩ => show 0 * 1 + 1 * (y 0).val = (y 0).val; omega
  | ⟨1, _⟩ => show 0 * 1024 + 1 * (y 1).val = (y 1).val; omega
theorem ga_blk (c : Dev nD) (t : Fin grid0.N) : (iblk m c 6 t : Vec Ideal S1x1024 .f32) = group (m ((c : Thread nD τ).loc main_arg6)) := by
  funext y
  unfold iblk
  rw [View.read_apply]
  refine Eq.trans ?_ (congrFun (V_ga m c) y)
  show V m c main_v8 _ = V m c main_v8 _
  refine congrArg _ (funext fun (a : Fin 2) => Fin.ext ?_)
  match a with
  | ⟨0, _⟩ => show 0 * 1 + 1 * (y 0).val = (y 0).val; omega
  | ⟨1, _⟩ => show 0 * 1024 + 1 * (y 1).val = (y 1).val; omega
theorem gain_blk (c : Dev nD) (t : Fin grid0.N) : (iblk m c 7 t : Vec Ideal S1x2048 .f32) = vec (m ((c : Thread nD τ).loc main_arg7)) := by
  funext y
  unfold iblk
  rw [View.read_apply]
  refine Eq.trans ?_ (congrFun (V_gain m c) y)
  show V m c main_v10 _ = V m c main_v10 _
  refine congrArg _ (funext fun (a : Fin 2) => Fin.ext ?_)
  match a with
  | ⟨0, _⟩ => show 0 * 1 + 1 * (y 0).val = (y 0).val; omega
  | ⟨1, _⟩ => show 0 * 2048 + 1 * (y 1).val = (y 1).val; omega
theorem shift_blk (c : Dev nD) (t : Fin grid0.N) : (iblk m c 8 t : Vec Ideal S1x2048 .f32) = vec (m ((c : Thread nD τ).loc main_arg8)) := by
  funext y
  unfold iblk
  rw [View.read_apply]
  refine Eq.trans ?_ (congrFun (V_shift m c) y)
  show V m c main_v12 _ = V m c main_v12 _
  refine congrArg _ (funext fun (a : Fin 2) => Fin.ext ?_)
  match a with
  | ⟨0, _⟩ => show 0 * 1 + 1 * (y 0).val = (y 0).val; omega
  | ⟨1, _⟩ => show 0 * 2048 + 1 * (y 1).val = (y 1).val; omega

/-- The result at an element, from the arguments. -/
def value (c : Dev nD) (q : Fin 8192) (j : Fin 2048) : EReal :=
  norm (mixed (fun k => ssm m c (ix2 q k)) (fun k => attn m c (ix2 q k)) (fun k => rows m c (ix2 q k)) (wglu m c) (wout m c)
    (fun k => (m ((c : Thread nD τ).loc main_arg5) : FVec Ideal S1x1024 .f32) (ix2 (0 : Fin 1) k))
    (fun k => (m ((c : Thread nD τ).loc main_arg6) : FVec Ideal S1x1024 .f32) (ix2 (0 : Fin 1) k)))
    (fun k => (m ((c : Thread nD τ).loc main_arg7) : FVec Ideal S1x2048 .f32) (ix2 (0 : Fin 1) k))
    (fun k => (m ((c : Thread nD τ).loc main_arg8) : FVec Ideal S1x2048 .f32) (ix2 (0 : Fin 1) k)) j

/-- What a step writes at an element. -/
theorem step_at (c : Dev nD) (t : Fin grid0.N) (p : Fin 512) (j : Fin 2048) (q : Fin 8192) (hq : q.val = t.val * 512 + p.val) :
    out0_9 (iblk m c 0 t) (iblk m c 1 t) (iblk m c 2 t) (iblk m c 3 t) (iblk m c 4 t) (iblk m c 5 t) (iblk m c 6 t) (iblk m c 7 t) (iblk m c 8 t) (ix2 p j)
      = value m c q j := by
  refine (out_at _ _ _ _ _ _ _ _ _ p j).trans ?_
  rw [wglu_blk, wout_blk, gs_blk, ga_blk, gain_blk, shift_blk]
  simp only [group_at, vec_at, ssm_at m c t p _ q hq, attn_at m c t p _ q hq, rows_at m c t p _ q hq]
  rfl

/-- The result, element by element. -/
theorem arr_at (c : Dev nD) (q : Fin 8192) (j : Fin 2048) :
    (dats m 0 c).arrAt 9 cfg0.N (ix2 q j : S8192x2048.Idx) = value m c q j := by
  have hN : grid0.N = 16 := by decide
  have hq := q.isLt
  let t : Fin grid0.N := ⟨q.val / 512, by omega⟩
  let p : Fin 512 := ⟨q.val % 512, Nat.mod_lt _ (by decide)⟩
  have b := congrFun (Value.blocks9 m c t (flush0_9 t)) (ix2 p j : S512x2048.Idx)
  rw [Value.flushed9, View.read_apply] at b
  have e : ((cfg0.win 9).blk t).view.emb (ix2 p j : S512x2048.Idx) = (ix2 q j : S8192x2048.Idx) := by
    refine funext fun (a : Fin 2) => Fin.ext ?_
    match a with
    | ⟨0, _⟩ => show win0_9.index t 0 * 512 + 1 * (q.val % 512) = q.val; rw [(index_row t).2.2]; show q.val / 512 * 512 + _ = _; omega
    | ⟨1, _⟩ => show 0 * 2048 + 1 * j.val = j.val; omega
  refine (congrArg _ e.symm).trans (Eq.trans ?_ (b.trans (step_at m c t p j q (by show q.val = q.val / 512 * 512 + q.val % 512; omega))))
  rfl

/-- The kernel computes the reference. -/
theorem algebraic : @Cert.algebraic_Kernel4Ideal_Reference4Ideal Kernel4Ideal.Gen.facts Reference4Ideal.Gen.facts := by
  intro m g m' g' _ hm
  refine ⟨_, (θ_run Cert.Kernel4Ideal.defs _ _).mono (fun r h c => ⟨(h c).1, (h c).2.2⟩) (Value.run_blocks m g), ?_⟩
  refine (θ_run Cert.Reference4Ideal.defs _ _).mono (fun r h c => ⟨(h c).1.trans ?_, (h c).2⟩) (Reference4Ideal.Value.run m' g')
  obtain ⟨h0, h1, h2, h3, h4, h5, h6, h7, h8⟩ := hm c
  rw [res_eq, h0, h1, h2, h3, h4, h5, h6, h7, h8]
  funext y
  have e : y = (ix2 (y 0) (y 1) : S8192x2048.Idx) := by
    funext a
    match a with
    | ⟨0, _⟩ => rfl
    | ⟨1, _⟩ => rfl
  rw [e]
  refine (normHost_at _ _ _ (y 0) (y 1)).trans (Eq.trans ?_ (arr_at m c (y 0) (y 1)).symm)
  exact congrArg (norm · _ _ (y 1)) (funext fun x => mixedHost_at _ _ _ _ _ _ _ (y 0) x)

end Cert.Mix

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_blocks_in_order
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Runs
public import proofs.«01_k».proof.Proof.Algebraic
public import proofs.«01_k».proof.Proof.Proj
public import proofs.«01_k».proof.Proof.Final
public import proofs.«01_k».proof.Proof.Mix
public import Idealize.ShloMosaic.Lib.Bf16Pair
public import Idealize.ShloMosaic.Lib.Bf16PairInverse
public import Idealize.ShloMosaic.Lib.Quiescent

@[expose] public section

noncomputable section

namespace Cert.Proof

open Idealize.ShloMosaic Idealize.SL.Sem

/-- The last step's reference runs and leaves its arguments. -/
theorem frame_reference2 : @Cert.quiescent_Reference2Ideal Reference2Ideal.Gen.facts := fun m ρ _ =>
  (θ_run Cert.Reference2Ideal.defs _ _).mono (fun r h => ⟨fun c => (h c).2, sem_eq_zero_of_no_sems (by decide) r.2⟩) (Reference2Ideal.Value.run m ρ)

/-- The in-projection's reference runs and leaves its arguments. -/
theorem frame_reference3 : @Cert.quiescent_Reference3Ideal Reference3Ideal.Gen.facts := fun m ρ _ =>
  (θ_run Cert.Reference3Ideal.defs _ _).mono (fun r h => ⟨fun c => (h c).2, sem_eq_zero_of_no_sems (by decide) r.2⟩) (Reference3Ideal.Value.run m ρ)

/-- The mixer's output reference runs and leaves its arguments. -/
theorem frame_reference4 : @Cert.quiescent_Reference4Ideal Reference4Ideal.Gen.facts := fun m ρ _ =>
  (θ_run Cert.Reference4Ideal.defs _ _).mono (fun r h => ⟨fun c => (h c).2, sem_eq_zero_of_no_sems (by decide) r.2⟩) (Reference4Ideal.Value.run m ρ)

/-- The packed words the mixer's output call writes are pairs of rounded numbers, and its array of words an array of pairs. -/
theorem preserves4 : @Cert.preserves_Kernel4_Kernel4Ideal :=
  ⟨IdealRules.bf16_pair.bufferStatement _ _, IdealRules.bf16_pair.bufferStatement _ _, IdealRules.bf16_pair.packStatement _, IdealRules.bf16_pair.statement _ _⟩

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_blocks_in_order.Gen.facts,
    MoeUp.frame_kernel, MoeUp.frame_ideal, MoeUp.frame_reference, MoeUp.frame_reference_pre,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    trivial, MoeUp.algebraic, trivial, Final.algebraic, trivial, Proj.algebraic, preserves4, Mix.algebraic⟩

end Cert.Proof

end
